-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_sorted [hPre_batch_sorted : Cert.Pre_batch_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_batch_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_batch_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_sorted [hPre_batch_sorted : Cert.Pre_batch_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_batch_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_batch_sorted [hKernelIdeal : Cert.KernelIdeal.Facts] [hPre_batch_sorted : Cert.Pre_batch_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_batch_sorted [hReferenceIdeal : Cert.ReferenceIdeal.Facts] [hPre_batch_sorted : Cert.Pre_batch_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_batch_sorted [hKernelIdeal : Cert.KernelIdeal.Facts] [hReferenceIdeal : Cert.ReferenceIdeal.Facts] [hPre_batch_sorted : Cert.Pre_batch_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_batch_sorted : Cert.Pre_batch_sorted.Facts),
    quiescent_Kernel (hKernel := hKernel)
    ∧ quiescent_KernelIdeal (hKernelIdeal := hKernelIdeal)
    ∧ quiescent_KernelIdeal_pre_batch_sorted (hKernelIdeal := hKernelIdeal) (hPre_batch_sorted := hPre_batch_sorted)
    ∧ quiescent_ReferenceIdeal (hReferenceIdeal := hReferenceIdeal)
    ∧ quiescent_ReferenceIdeal_pre_batch_sorted (hReferenceIdeal := hReferenceIdeal) (hPre_batch_sorted := hPre_batch_sorted)
    ∧ preserves_Kernel_KernelIdeal
    ∧ algebraic_KernelIdeal_ReferenceIdeal_pre_batch_sorted (hKernelIdeal := hKernelIdeal) (hReferenceIdeal := hReferenceIdeal) (hPre_batch_sorted := hPre_batch_sorted)
-- ==== Pre_batch_sorted.lean ====
abbrev S131072x61 : Shape := ⟨2, ![131072, 61]⟩
abbrev S131072x3 : Shape := ⟨2, ![131072, 3]⟩
abbrev S64x64 : Shape := ⟨2, ![64, 64]⟩
abbrev S64 : Shape := ⟨1, ![64]⟩
abbrev S131072 : Shape := ⟨1, ![131072]⟩
abbrev S131071 : Shape := ⟨1, ![131071]⟩
abbrev S_ : Shape := ⟨0, ![]⟩

class Facts : Prop where
  slices_S131072_S131071_1 : S131072.Slices ![1] S131071
  slices_S131072_S131071_0 : S131072.Slices ![0] S131071
  bcast_S_S131072 : S_.BroadcastsInDim S131072 (![] : Fin 0 → Fin S131072.rank)

variable [Facts]

def fn {F : FTy → Type} [FloatOps F] (main_arg0 : FVec F S131072x61 .f32) (main_arg1 : FVec F S131072x3 .f32) (main_arg2 : FVec F S64x64 .f32) (main_arg3 : FVec F S64 .f32) (main_arg4 : IVec S131072 32) : IVec S131071 1 × IVec S131072 1 :=
  let main_v0 : IVec S131071 32 := (extractStridedSlice S131071 ![1] · slices_S131072_S131071_1) main_arg4
  let main_v1 : IVec S131071 32 := (extractStridedSlice S131071 ![0] · slices_S131072_S131071_0) main_arg4
  let main_v2 : IVec S131071 1 := cmpi .sge main_v0 main_v1
  let main_c : IVec S_ 32 := constantI S_ 32 16#32
  let main_v3 : IVec S131072 32 := broadcastInDim S131072 ![] bcast_S_S131072 main_c
  let main_v4 : IVec S131072 1 := cmpi .slt main_arg4 main_v3
  (main_v2, main_v4)
-- ==== Kernel.lean ====
abbrev S131072x61 : Shape := ⟨2, ![131072, 61]⟩
abbrev S131072x3 : Shape := ⟨2, ![131072, 3]⟩
abbrev S64x64 : Shape := ⟨2, ![64, 64]⟩
abbrev S64 : Shape := ⟨1, ![64]⟩
abbrev S131072 : Shape := ⟨1, ![131072]⟩
abbrev S1 : Shape := ⟨1, ![1]⟩
abbrev S61x131072 : Shape := ⟨2, ![61, 131072]⟩
abbrev S3x131072 : Shape := ⟨2, ![3, 131072]⟩
abbrev S64x61 : Shape := ⟨2, ![64, 61]⟩
abbrev S61x64 : Shape := ⟨2, ![61, 64]⟩
abbrev S64x3 : Shape := ⟨2, ![64, 3]⟩
abbrev S3x64 : Shape := ⟨2, ![3, 64]⟩
abbrev S1x64 : Shape := ⟨2, ![1, 64]⟩
abbrev S16 : Shape := ⟨1, ![16]⟩
abbrev S131072x1 : Shape := ⟨2, ![131072, 1]⟩
abbrev S1x16 : Shape := ⟨2, ![1, 16]⟩
abbrev S131072x16 : Shape := ⟨2, ![131072, 16]⟩
abbrev S_ : Shape := ⟨0, ![]⟩
abbrev S15 : Shape := ⟨1, ![15]⟩
abbrev S32768x128 : Shape := ⟨2, ![32768, 128]⟩
abbrev S61x4096 : Shape := ⟨2, ![61, 4096]⟩
abbrev S3x4096 : Shape := ⟨2, ![3, 4096]⟩
abbrev S4096x128 : Shape := ⟨2, ![4096, 128]⟩
abbrev S4096x64 : Shape := ⟨2, ![4096, 64]⟩
abbrev S32x16x64 : Shape := ⟨3, ![32, 16, 64]⟩
abbrev S256x128 : Shape := ⟨2, ![256, 128]⟩
abbrev S16x64 : Shape := ⟨2, ![16, 64]⟩
abbrev S1x16x64 : Shape := ⟨3, ![1, 16, 64]⟩

abbrev nBuf : Table → Nat
  | .hbm => 29
  | .local .tc .vmem => 29
  | .local .scVector .vmem => 10
  | _ => 0

abbrev bufTy : (tb : Table) → Fin (nBuf tb) → BufTy
  | .hbm, ⟨0, _⟩ => ⟨S131072x61, .f32⟩
  | .hbm, ⟨1, _⟩ => ⟨S131072x3, .f32⟩
  | .hbm, ⟨2, _⟩ => ⟨S64x64, .f32⟩
  | .hbm, ⟨3, _⟩ => ⟨S64, .f32⟩
  | .hbm, ⟨4, _⟩ => ⟨S131072, .i32⟩
  | .hbm, ⟨5, _⟩ => ⟨S1, .i32⟩
  | .hbm, ⟨6, _⟩ => ⟨S61x131072, .f32⟩
  | .hbm, ⟨7, _⟩ => ⟨S3x131072, .f32⟩
  | .hbm, ⟨8, _⟩ => ⟨S64x61, .f32⟩
  | .hbm, ⟨9, _⟩ => ⟨S61x64, .f32⟩
  | .hbm, ⟨10, _⟩ => ⟨S64x3, .f32⟩
  | .hbm, ⟨11, _⟩ => ⟨S3x64, .f32⟩
  | .hbm, ⟨12, _⟩ => ⟨S1x64, .f32⟩
  | .hbm, ⟨13, _⟩ => ⟨S16, .i32⟩
  | .hbm, ⟨14, _⟩ => ⟨S131072x1, .i32⟩
  | .hbm, ⟨15, _⟩ => ⟨S1x16, .i32⟩
  | .hbm, ⟨16, _⟩ => ⟨S131072x16, .i32⟩
  | .hbm, ⟨17, _⟩ => ⟨S131072x16, .i32⟩
  | .hbm, ⟨18, _⟩ => ⟨S131072x16, .i1⟩
  | .hbm, ⟨19, _⟩ => ⟨S131072x16, .i32⟩
  | .hbm, ⟨20, _⟩ => ⟨S_, .i32⟩
  | .hbm, ⟨21, _⟩ => ⟨S16, .i32⟩
  | .hbm, ⟨22, _⟩ => ⟨S15, .i32⟩
  | .hbm, ⟨23, _⟩ => ⟨S16, .i32⟩
  | .hbm, ⟨24, _⟩ => ⟨S32768x128, .f32⟩
  | .hbm, ⟨25, _⟩ => ⟨S32x16x64, .f32⟩
  | .hbm, ⟨26, _⟩ => ⟨S32768x128, .f32⟩
  | .hbm, ⟨27, _⟩ => ⟨S32x16x64, .f32⟩
  | .hbm, ⟨28, _⟩ => ⟨S16x64, .f32⟩
  | .local .tc .vmem, ⟨0, _⟩ => ⟨S61x4096, .f32⟩
  | .local .tc .vmem, ⟨1, _⟩ => ⟨S61x4096, .f32⟩
  | .local .tc .vmem, ⟨2, _⟩ => ⟨S61x4096, .f32⟩
  | .local .tc .vmem, ⟨3, _⟩ => ⟨S61x4096, .f32⟩
  | .local .tc .vmem, ⟨4, _⟩ => ⟨S3x4096, .f32⟩
  | .local .tc .vmem, ⟨5, _⟩ => ⟨S3x4096, .f32⟩
  | .local .tc .vmem, ⟨6, _⟩ => ⟨S3x4096, .f32⟩
  | .local .tc .vmem, ⟨7, _⟩ => ⟨S3x4096, .f32⟩
  | .local .tc .vmem, ⟨8, _⟩ => ⟨S61x64, .f32⟩
  | .local .tc .vmem, ⟨9, _⟩ => ⟨S3x64, .f32⟩
  | .local .tc .vmem, ⟨10, _⟩ => ⟨S1x64, .f32⟩
  | .local .tc .vmem, ⟨11, _⟩ => ⟨S4096x128, .f32⟩
  | .local .tc .vmem, ⟨12, _⟩ => ⟨S4096x128, .f32⟩
  | .local .tc .vmem, ⟨13, _⟩ => ⟨S61x4096, .f32⟩
  | .local .tc .vmem, ⟨14, _⟩ => ⟨S61x4096, .f32⟩
  | .local .tc .vmem, ⟨15, _⟩ => ⟨S61x4096, .f32⟩
  | .local .tc .vmem, ⟨16, _⟩ => ⟨S61x4096, .f32⟩
  | .local .tc .vmem, ⟨17, _⟩ => ⟨S3x4096, .f32⟩
  | .local .tc .vmem, ⟨18, _⟩ => ⟨S3x4096, .f32⟩
  | .local .tc .vmem, ⟨19, _⟩ => ⟨S3x4096, .f32⟩
  | .local .tc .vmem, ⟨20, _⟩ => ⟨S3x4096, .f32⟩
  | .local .tc .vmem, ⟨21, _⟩ => ⟨S61x64, .f32⟩
  | .local .tc .vmem, ⟨22, _⟩ => ⟨S3x64, .f32⟩
  | .local .tc .vmem, ⟨23, _⟩ => ⟨S1x64, .f32⟩
  | .local .tc .vmem, ⟨24, _⟩ => ⟨S4096x128, .f32⟩
  | .local .tc .vmem, ⟨25, _⟩ => ⟨S4096x128, .f32⟩
  | .local .tc .vmem, ⟨26, _⟩ => ⟨S32x16x64, .f32⟩
  | .local .tc .vmem, ⟨27, _⟩ => ⟨S32x16x64, .f32⟩
  | .local .tc .vmem, ⟨28, _⟩ => ⟨S16x64, .f32⟩
  | .local .scVector .vmem, ⟨0, _⟩ => ⟨S256x128, .f32⟩
  | .local .scVector .vmem, ⟨1, _⟩ => ⟨S256x128, .f32⟩
  | .local .scVector .vmem, ⟨2, _⟩ => ⟨S16x64, .f32⟩
  | .local .scVector .vmem, ⟨3, _⟩ => ⟨S16, .i32⟩
  | .local .scVector .vmem, ⟨4, _⟩ => ⟨S16, .i32⟩
  | .local .scVector .vmem, ⟨5, _⟩ => ⟨S256x128, .f32⟩
  | .local .scVector .vmem, ⟨6, _⟩ => ⟨S256x128, .f32⟩
  | .local .scVector .vmem, ⟨7, _⟩ => ⟨S16x64, .f32⟩
  | .local .scVector .vmem, ⟨8, _⟩ => ⟨S16, .i32⟩
  | .local .scVector .vmem, ⟨9, _⟩ => ⟨S16, .i32⟩
  | _, _ => ⟨S131072x61, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => false
  | ⟨32, _⟩ => false
  | ⟨33, _⟩ => false
  | ⟨34, _⟩ => false
  | ⟨35, _⟩ => false
  | ⟨36, _⟩ => true
  | ⟨37, _⟩ => true
  | ⟨38, _⟩ => true
  | _ => false

abbrev sig : RefSig :=
  ofTables nBuf rfl bufTy 4 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v17_scv : Ref sig .scVector := ⟨.hbm, 24, rfl⟩
abbrev main_v14_scv : Ref sig .scVector := ⟨.hbm, 21, rfl⟩
abbrev main_v16_scv : Ref sig .scVector := ⟨.hbm, 23, rfl⟩
abbrev main_v18_scv : Ref sig .scVector := ⟨.hbm, 25, rfl⟩
abbrev main_v19_scv : Ref sig .scVector := ⟨.hbm, 26, rfl⟩
abbrev main_v20_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg2_0 : Ref sig .tc := ⟨.vmem, 28, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc3_scratch0 : Ref sig .scVector := ⟨.vmem, 5, rfl⟩
abbrev cc3_scratch1 : Ref sig .scVector := ⟨.vmem, 6, rfl⟩
abbrev cc3_scratch2 : Ref sig .scVector := ⟨.vmem, 7, rfl⟩
abbrev cc3_scratch3 : Ref sig .scVector := ⟨.vmem, 8, rfl⟩
abbrev cc3_scratch4 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev cc4_sem0_0 : DmaSem sig := 36
abbrev cc4_sem1_0 : DmaSem sig := 37
abbrev cc4_sem2_0 : DmaSem sig := 38
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S61x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S61x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S61x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) (c0_i32_271 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v617 : BitVec 32 := Scalar.addi v2 c0_i32_271
  let c0_i32_272 : BitVec 32 := 0#32
  ![v617.toNat, 0]
@[reducible] def k1_t1_loop (i : grid1.Coords) (v266 : BitVec 32) (v271 : BitVec 32) : Scf.Loop 32 :=
  let c256_i32_281 : BitVec 32 := 256#32
  let c0_i32_280 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let c256_i32_284 : BitVec 32 := 256#32
  let c0_i32_283 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c0_i32_282 : BitVec 32 := 0#32
  let v629 : BitVec 32 := Scalar.subi v274 c0_i32_282
  let v630 : BitVec 32 := Scalar.maxsi c0_i32_283 v629
  let v631 : BitVec 32 := Scalar.minsi c256_i32_284 v630
  let v1805 : BitVec 32 := Scalar.subi v631 v628
  let c1_i32_1196 : BitVec 32 := 1#32
  let v1807 : BitVec 32 := Scalar.divsi v1805 c1_i32_1196
  let v1808 : BitVec 32 := Scalar.muli v1807 c1_i32_1196
  let v1809 : BitVec 32 := Scalar.addi v628 v1808
  let c1_i32_1197 : BitVec 32 := 1#32
  ⟨v628, v1809, c1_i32_1197⟩
def k1_cond1 (i : grid1.Coords) (v266 : BitVec 32) (v271 : BitVec 32) : BitVec 1 :=
  let c256_i32_284 : BitVec 32 := 256#32
  let c0_i32_283 : BitVec 32 := 0#32
  let c1024_i32_115 : BitVec 32 := 1024#32
  let c0_i32_114 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v272 : BitVec 32 := Scalar.subi v271 v3
  let v273 : BitVec 32 := Scalar.maxsi c0_i32_114 v272
  let v274 : BitVec 32 := Scalar.minsi c1024_i32_115 v273
  let c0_i32_282 : BitVec 32 := 0#32
  let v629 : BitVec 32 := Scalar.subi v274 c0_i32_282
  let v630 : BitVec 32 := Scalar.maxsi c0_i32_283 v629
  let v631 : BitVec 32 := Scalar.minsi c256_i32_284 v630
  let c256_i32_281 : BitVec 32 := 256#32
  let c0_i32_280 : BitVec 32 := 0#32
  let c1024_i32_113 : BitVec 32 := 1024#32
  let c0_i32_112 : BitVec 32 := 0#32
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let v632 : BitVec 1 := Scalar.cmpi .sgt v631 v628
  let v633 : BitVec 32 := Scalar.extui v632
  let c0_i32_285 : BitVec 32 := 0#32
  let v634 : BitVec 1 := Scalar.cmpi .ne v633 c0_i32_285
  v634

def k1_off2 (i : grid1.Coords) (v266 : BitVec 32) (v271 : BitVec 32) (k1_t1 : Fin (k1_t1_loop i v266 v271).trips) : Fin 2 → Nat :=
  let c256_i32_281 : BitVec 32 := 256#32
  let c0_i32_280 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let c1_i32_1197 : BitVec 32 := 1#32
  let arg13 : BitVec 32 := Scf.iv v628 c1_i32_1197 k1_t1
  let v1828 : Index := Scalar.indexCast arg13
  let c0_1207 : Index := 0#32
  ![v1828.toNat, 0]
def k1_off3 (i : grid1.Coords) (v266 : BitVec 32) (v271 : BitVec 32) (k1_t1 : Fin (k1_t1_loop i v266 v271).trips) : Fin 2 → Nat :=
  let c256_i32_281 : BitVec 32 := 256#32
  let c0_i32_280 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let c1_i32_1197 : BitVec 32 := 1#32
  let arg13 : BitVec 32 := Scf.iv v628 c1_i32_1197 k1_t1
  let v1832 : Index := Scalar.indexCast arg13
  let c16_1208 : Index := 16#32
  ![v1832.toNat, 16]
def k1_off4 (i : grid1.Coords) (v266 : BitVec 32) (v271 : BitVec 32) (k1_t1 : Fin (k1_t1_loop i v266 v271).trips) : Fin 2 → Nat :=
  let c256_i32_281 : BitVec 32 := 256#32
  let c0_i32_280 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let c1_i32_1197 : BitVec 32 := 1#32
  let arg13 : BitVec 32 := Scf.iv v628 c1_i32_1197 k1_t1
  let v1836 : Index := Scalar.indexCast arg13
  let c32_1209 : Index := 32#32
  ![v1836.toNat, 32]
def k1_off5 (i : grid1.Coords) (v266 : BitVec 32) (v271 : BitVec 32) (k1_t1 : Fin (k1_t1_loop i v266 v271).trips) : Fin 2 → Nat :=
  let c256_i32_281 : BitVec 32 := 256#32
  let c0_i32_280 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let c1_i32_1197 : BitVec 32 := 1#32
  let arg13 : BitVec 32 := Scf.iv v628 c1_i32_1197 k1_t1
  let v1840 : Index := Scalar.indexCast arg13
  let c48_1210 : Index := 48#32
  ![v1840.toNat, 48]
@[reducible] def k1_t2_loop (i : grid1.Coords) (v266 : BitVec 32) (v271 : BitVec 32) : Scf.Loop 32 :=
  let c256_i32_281 : BitVec 32 := 256#32
  let c0_i32_280 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let c256_i32_284 : BitVec 32 := 256#32
  let c0_i32_283 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c0_i32_282 : BitVec 32 := 0#32
  let v629 : BitVec 32 := Scalar.subi v274 c0_i32_282
  let v630 : BitVec 32 := Scalar.maxsi c0_i32_283 v629
  let v631 : BitVec 32 := Scalar.minsi c256_i32_284 v630
  let v1805 : BitVec 32 := Scalar.subi v631 v628
  let c1_i32_1196 : BitVec 32 := 1#32
  let v1807 : BitVec 32 := Scalar.divsi v1805 c1_i32_1196
  let v1808 : BitVec 32 := Scalar.muli v1807 c1_i32_1196
  let v1809 : BitVec 32 := Scalar.addi v628 v1808
  let v1806 : BitVec 32 := Scalar.addi v628 v1805
  let c1_i32_1198 : BitVec 32 := 1#32
  ⟨v1809, v1806, c1_i32_1198⟩
def k1_off6 (i : grid1.Coords) (v266 : BitVec 32) (v271 : BitVec 32) (k1_t2 : Fin (k1_t2_loop i v266 v271).trips) : Fin 2 → Nat :=
  let c256_i32_281 : BitVec 32 := 256#32
  let c0_i32_280 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let c256_i32_284 : BitVec 32 := 256#32
  let c0_i32_283 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c0_i32_282 : BitVec 32 := 0#32
  let v629 : BitVec 32 := Scalar.subi v274 c0_i32_282
  let v630 : BitVec 32 := Scalar.maxsi c0_i32_283 v629
  let v631 : BitVec 32 := Scalar.minsi c256_i32_284 v630
  let v1805 : BitVec 32 := Scalar.subi v631 v628
  let c1_i32_1196 : BitVec 32 := 1#32
  let v1807 : BitVec 32 := Scalar.divsi v1805 c1_i32_1196
  let v1808 : BitVec 32 := Scalar.muli v1807 c1_i32_1196
  let v1809 : BitVec 32 := Scalar.addi v628 v1808
  let c1_i32_1198 : BitVec 32 := 1#32
  let arg13 : BitVec 32 := Scf.iv v1809 c1_i32_1198 k1_t2
  let v1828 : Index := Scalar.indexCast arg13
  let c0_1207 : Index := 0#32
  ![v1828.toNat, 0]
def k1_off7 (i : grid1.Coords) (v266 : BitVec 32) (v271 : BitVec 32) (k1_t2 : Fin (k1_t2_loop i v266 v271).trips) : Fin 2 → Nat :=
  let c256_i32_281 : BitVec 32 := 256#32
  let c0_i32_280 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let c256_i32_284 : BitVec 32 := 256#32
  let c0_i32_283 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c0_i32_282 : BitVec 32 := 0#32
  let v629 : BitVec 32 := Scalar.subi v274 c0_i32_282
  let v630 : BitVec 32 := Scalar.maxsi c0_i32_283 v629
  let v631 : BitVec 32 := Scalar.minsi c256_i32_284 v630
  let v1805 : BitVec 32 := Scalar.subi v631 v628
  let c1_i32_1196 : BitVec 32 := 1#32
  let v1807 : BitVec 32 := Scalar.divsi v1805 c1_i32_1196
  let v1808 : BitVec 32 := Scalar.muli v1807 c1_i32_1196
  let v1809 : BitVec 32 := Scalar.addi v628 v1808
  let c1_i32_1198 : BitVec 32 := 1#32
  let arg13 : BitVec 32 := Scf.iv v1809 c1_i32_1198 k1_t2
  let v1832 : Index := Scalar.indexCast arg13
  let c16_1208 : Index := 16#32
  ![v1832.toNat, 16]
def k1_off8 (i : grid1.Coords) (v266 : BitVec 32) (v271 : BitVec 32) (k1_t2 : Fin (k1_t2_loop i v266 v271).trips) : Fin 2 → Nat :=
  let c256_i32_281 : BitVec 32 := 256#32
  let c0_i32_280 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let c256_i32_284 : BitVec 32 := 256#32
  let c0_i32_283 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c0_i32_282 : BitVec 32 := 0#32
  let v629 : BitVec 32 := Scalar.subi v274 c0_i32_282
  let v630 : BitVec 32 := Scalar.maxsi c0_i32_283 v629
  let v631 : BitVec 32 := Scalar.minsi c256_i32_284 v630
  let v1805 : BitVec 32 := Scalar.subi v631 v628
  let c1_i32_1196 : BitVec 32 := 1#32
  let v1807 : BitVec 32 := Scalar.divsi v1805 c1_i32_1196
  let v1808 : BitVec 32 := Scalar.muli v1807 c1_i32_1196
  let v1809 : BitVec 32 := Scalar.addi v628 v1808
  let c1_i32_1198 : BitVec 32 := 1#32
  let arg13 : BitVec 32 := Scf.iv v1809 c1_i32_1198 k1_t2
  let v1836 : Index := Scalar.indexCast arg13
  let c32_1209 : Index := 32#32
  ![v1836.toNat, 32]
def k1_off9 (i : grid1.Coords) (v266 : BitVec 32) (v271 : BitVec 32) (k1_t2 : Fin (k1_t2_loop i v266 v271).trips) : Fin 2 → Nat :=
  let c256_i32_281 : BitVec 32 := 256#32
  let c0_i32_280 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c0_i32_279 : BitVec 32 := 0#32
  let v626 : BitVec 32 := Scalar.subi v269 c0_i32_279
  let v627 : BitVec 32 := Scalar.maxsi c0_i32_280 v626
  let v628 : BitVec 32 := Scalar.minsi c256_i32_281 v627
  let c256_i32_284 : BitVec 32 := 256#32
  let c0_i32_283 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c0_i32_282 : BitVec 32 := 0#32
  let v629 : BitVec 32 := Scalar.subi v274 c0_i32_282
  let v630 : BitVec 32 := Scalar.maxsi c0_i32_283 v629
  let v631 : BitVec 32 := Scalar.minsi c256_i32_284 v630
  let v1805 : BitVec 32 := Scalar.subi v631 v628
  let c1_i32_1196 : BitVec 32 := 1#32
  let v1807 : BitVec 32 := Scalar.divsi v1805 c1_i32_1196
  let v1808 : BitVec 32 := Scalar.muli v1807 c1_i32_1196
  let v1809 : BitVec 32 := Scalar.addi v628 v1808
  let c1_i32_1198 : BitVec 32 := 1#32
  let arg13 : BitVec 32 := Scf.iv v1809 c1_i32_1198 k1_t2
  let v1840 : Index := Scalar.indexCast arg13
  let c48_1210 : Index := 48#32
  ![v1840.toNat, 48]
@[reducible] def k1_t3_loop (i : grid1.Coords) (v276 : BitVec 32) (v282 : BitVec 32) : Scf.Loop 32 :=
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let c256_i32_291 : BitVec 32 := 256#32
  let c0_i32_290 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c0_i32_289 : BitVec 32 := 0#32
  let v638 : BitVec 32 := Scalar.subi v286 c0_i32_289
  let v639 : BitVec 32 := Scalar.maxsi c0_i32_290 v638
  let v640 : BitVec 32 := Scalar.minsi c256_i32_291 v639
  let v1805 : BitVec 32 := Scalar.subi v640 v637
  let c1_i32_1196 : BitVec 32 := 1#32
  let v1807 : BitVec 32 := Scalar.divsi v1805 c1_i32_1196
  let v1808 : BitVec 32 := Scalar.muli v1807 c1_i32_1196
  let v1809 : BitVec 32 := Scalar.addi v637 v1808
  let c1_i32_1197 : BitVec 32 := 1#32
  ⟨v637, v1809, c1_i32_1197⟩
def k1_cond2 (i : grid1.Coords) (v276 : BitVec 32) (v282 : BitVec 32) : BitVec 1 :=
  let c256_i32_291 : BitVec 32 := 256#32
  let c0_i32_290 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v284 : BitVec 32 := Scalar.subi v283 v3
  let v285 : BitVec 32 := Scalar.maxsi c0_i32_119 v284
  let v286 : BitVec 32 := Scalar.minsi c1024_i32_120 v285
  let c0_i32_289 : BitVec 32 := 0#32
  let v638 : BitVec 32 := Scalar.subi v286 c0_i32_289
  let v639 : BitVec 32 := Scalar.maxsi c0_i32_290 v638
  let v640 : BitVec 32 := Scalar.minsi c256_i32_291 v639
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let v641 : BitVec 1 := Scalar.cmpi .sgt v640 v637
  let v642 : BitVec 32 := Scalar.extui v641
  let c0_i32_292 : BitVec 32 := 0#32
  let v643 : BitVec 1 := Scalar.cmpi .ne v642 c0_i32_292
  v643

def k1_off10 (i : grid1.Coords) (v276 : BitVec 32) (v282 : BitVec 32) (k1_t3 : Fin (k1_t3_loop i v276 v282).trips) : Fin 2 → Nat :=
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let c1_i32_1197 : BitVec 32 := 1#32
  let arg13 : BitVec 32 := Scf.iv v637 c1_i32_1197 k1_t3
  let v1828 : Index := Scalar.indexCast arg13
  let c64 : Index := 64#32
  ![v1828.toNat, 64]
def k1_off11 (i : grid1.Coords) (v276 : BitVec 32) (v282 : BitVec 32) (k1_t3 : Fin (k1_t3_loop i v276 v282).trips) : Fin 2 → Nat :=
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let c1_i32_1197 : BitVec 32 := 1#32
  let arg13 : BitVec 32 := Scf.iv v637 c1_i32_1197 k1_t3
  let v1832 : Index := Scalar.indexCast arg13
  let c80 : Index := 80#32
  ![v1832.toNat, 80]
def k1_off12 (i : grid1.Coords) (v276 : BitVec 32) (v282 : BitVec 32) (k1_t3 : Fin (k1_t3_loop i v276 v282).trips) : Fin 2 → Nat :=
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let c1_i32_1197 : BitVec 32 := 1#32
  let arg13 : BitVec 32 := Scf.iv v637 c1_i32_1197 k1_t3
  let v1836 : Index := Scalar.indexCast arg13
  let c96 : Index := 96#32
  ![v1836.toNat, 96]
def k1_off13 (i : grid1.Coords) (v276 : BitVec 32) (v282 : BitVec 32) (k1_t3 : Fin (k1_t3_loop i v276 v282).trips) : Fin 2 → Nat :=
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let c1_i32_1197 : BitVec 32 := 1#32
  let arg13 : BitVec 32 := Scf.iv v637 c1_i32_1197 k1_t3
  let v1840 : Index := Scalar.indexCast arg13
  let c112 : Index := 112#32
  ![v1840.toNat, 112]
@[reducible] def k1_t4_loop (i : grid1.Coords) (v276 : BitVec 32) (v282 : BitVec 32) : Scf.Loop 32 :=
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let c256_i32_291 : BitVec 32 := 256#32
  let c0_i32_290 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c0_i32_289 : BitVec 32 := 0#32
  let v638 : BitVec 32 := Scalar.subi v286 c0_i32_289
  let v639 : BitVec 32 := Scalar.maxsi c0_i32_290 v638
  let v640 : BitVec 32 := Scalar.minsi c256_i32_291 v639
  let v1805 : BitVec 32 := Scalar.subi v640 v637
  let c1_i32_1196 : BitVec 32 := 1#32
  let v1807 : BitVec 32 := Scalar.divsi v1805 c1_i32_1196
  let v1808 : BitVec 32 := Scalar.muli v1807 c1_i32_1196
  let v1809 : BitVec 32 := Scalar.addi v637 v1808
  let v1806 : BitVec 32 := Scalar.addi v637 v1805
  let c1_i32_1198 : BitVec 32 := 1#32
  ⟨v1809, v1806, c1_i32_1198⟩
def k1_off14 (i : grid1.Coords) (v276 : BitVec 32) (v282 : BitVec 32) (k1_t4 : Fin (k1_t4_loop i v276 v282).trips) : Fin 2 → Nat :=
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let c256_i32_291 : BitVec 32 := 256#32
  let c0_i32_290 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c0_i32_289 : BitVec 32 := 0#32
  let v638 : BitVec 32 := Scalar.subi v286 c0_i32_289
  let v639 : BitVec 32 := Scalar.maxsi c0_i32_290 v638
  let v640 : BitVec 32 := Scalar.minsi c256_i32_291 v639
  let v1805 : BitVec 32 := Scalar.subi v640 v637
  let c1_i32_1196 : BitVec 32 := 1#32
  let v1807 : BitVec 32 := Scalar.divsi v1805 c1_i32_1196
  let v1808 : BitVec 32 := Scalar.muli v1807 c1_i32_1196
  let v1809 : BitVec 32 := Scalar.addi v637 v1808
  let c1_i32_1198 : BitVec 32 := 1#32
  let arg13 : BitVec 32 := Scf.iv v1809 c1_i32_1198 k1_t4
  let v1828 : Index := Scalar.indexCast arg13
  let c64 : Index := 64#32
  ![v1828.toNat, 64]
def k1_off15 (i : grid1.Coords) (v276 : BitVec 32) (v282 : BitVec 32) (k1_t4 : Fin (k1_t4_loop i v276 v282).trips) : Fin 2 → Nat :=
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let c256_i32_291 : BitVec 32 := 256#32
  let c0_i32_290 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c0_i32_289 : BitVec 32 := 0#32
  let v638 : BitVec 32 := Scalar.subi v286 c0_i32_289
  let v639 : BitVec 32 := Scalar.maxsi c0_i32_290 v638
  let v640 : BitVec 32 := Scalar.minsi c256_i32_291 v639
  let v1805 : BitVec 32 := Scalar.subi v640 v637
  let c1_i32_1196 : BitVec 32 := 1#32
  let v1807 : BitVec 32 := Scalar.divsi v1805 c1_i32_1196
  let v1808 : BitVec 32 := Scalar.muli v1807 c1_i32_1196
  let v1809 : BitVec 32 := Scalar.addi v637 v1808
  let c1_i32_1198 : BitVec 32 := 1#32
  let arg13 : BitVec 32 := Scf.iv v1809 c1_i32_1198 k1_t4
  let v1832 : Index := Scalar.indexCast arg13
  let c80 : Index := 80#32
  ![v1832.toNat, 80]
def k1_off16 (i : grid1.Coords) (v276 : BitVec 32) (v282 : BitVec 32) (k1_t4 : Fin (k1_t4_loop i v276 v282).trips) : Fin 2 → Nat :=
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let c256_i32_291 : BitVec 32 := 256#32
  let c0_i32_290 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c0_i32_289 : BitVec 32 := 0#32
  let v638 : BitVec 32 := Scalar.subi v286 c0_i32_289
  let v639 : BitVec 32 := Scalar.maxsi c0_i32_290 v638
  let v640 : BitVec 32 := Scalar.minsi c256_i32_291 v639
  let v1805 : BitVec 32 := Scalar.subi v640 v637
  let c1_i32_1196 : BitVec 32 := 1#32
  let v1807 : BitVec 32 := Scalar.divsi v1805 c1_i32_1196
  let v1808 : BitVec 32 := Scalar.muli v1807 c1_i32_1196
  let v1809 : BitVec 32 := Scalar.addi v637 v1808
  let c1_i32_1198 : BitVec 32 := 1#32
  let arg13 : BitVec 32 := Scf.iv v1809 c1_i32_1198 k1_t4
  let v1836 : Index := Scalar.indexCast arg13
  let c96 : Index := 96#32
  ![v1836.toNat, 96]
def k1_off17 (i : grid1.Coords) (v276 : BitVec 32) (v282 : BitVec 32) (k1_t4 : Fin (k1_t4_loop i v276 v282).trips) : Fin 2 → Nat :=
  let c256_i32_288 : BitVec 32 := 256#32
  let c0_i32_287 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c0_i32_286 : BitVec 32 := 0#32
  let v635 : BitVec 32 := Scalar.subi v280 c0_i32_286
  let v636 : BitVec 32 := Scalar.maxsi c0_i32_287 v635
  let v637 : BitVec 32 := Scalar.minsi c256_i32_288 v636
  let c256_i32_291 : BitVec 32 := 256#32
  let c0_i32_290 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c0_i32_289 : BitVec 32 := 0#32
  let v638 : BitVec 32 := Scalar.subi v286 c0_i32_289
  let v639 : BitVec 32 := Scalar.maxsi c0_i32_290 v638
  let v640 : BitVec 32 := Scalar.minsi c256_i32_291 v639
  let v1805 : BitVec 32 := Scalar.subi v640 v637
  let c1_i32_1196 : BitVec 32 := 1#32
  let v1807 : BitVec 32 := Scalar.divsi v1805 c1_i32_1196
  let v1808 : BitVec 32 := Scalar.muli v1807 c1_i32_1196
  let v1809 : BitVec 32 := Scalar.addi v637 v1808
  let c1_i32_1198 : BitVec 32 := 1#32
  let arg13 : BitVec 32 := Scf.iv v1809 c1_i32_1198 k1_t4
  let v1840 : Index := Scalar.indexCast arg13
  let c112 : Index := 112#32
  ![v1840.toNat, 112]
@[reducible] def k1_t5_loop (i : grid1.Coords) (v288 : BitVec 32) (v293 : BitVec 32) : Scf.Loop 32 :=
  let c256_i32_295 : BitVec 32 := 256#32
  let c0_i32_294 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let c256_i32_298 : BitVec 32 := 256#32
  let c0_i32_297 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c0_i32_296 : BitVec 32 := 0#32
  let v647 : BitVec 32 := Scalar.subi v296 c0_i32_296
  let v648 : BitVec 32 := Scalar.maxsi c0_i32_297 v647
  let v649 : BitVec 32 := Scalar.minsi c256_i32_298 v648
  let v1805 : BitVec 32 := Scalar.subi v649 v646
  let c1_i32_1196 : BitVec 32 := 1#32
  let v1807 : BitVec 32 := Scalar.divsi v1805 c1_i32_1196
  let v1808 : BitVec 32 := Scalar.muli v1807 c1_i32_1196
  let v1809 : BitVec 32 := Scalar.addi v646 v1808
  let c1_i32_1197 : BitVec 32 := 1#32
  ⟨v646, v1809, c1_i32_1197⟩
def k1_cond3 (i : grid1.Coords) (v288 : BitVec 32) (v293 : BitVec 32) : BitVec 1 :=
  let c256_i32_298 : BitVec 32 := 256#32
  let c0_i32_297 : BitVec 32 := 0#32
  let c1024_i32_124 : BitVec 32 := 1024#32
  let c0_i32_123 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v294 : BitVec 32 := Scalar.subi v293 v3
  let v295 : BitVec 32 := Scalar.maxsi c0_i32_123 v294
  let v296 : BitVec 32 := Scalar.minsi c1024_i32_124 v295
  let c0_i32_296 : BitVec 32 := 0#32
  let v647 : BitVec 32 := Scalar.subi v296 c0_i32_296
  let v648 : BitVec 32 := Scalar.maxsi c0_i32_297 v647
  let v649 : BitVec 32 := Scalar.minsi c256_i32_298 v648
  let c256_i32_295 : BitVec 32 := 256#32
  let c0_i32_294 : BitVec 32 := 0#32
  let c1024_i32_122 : BitVec 32 := 1024#32
  let c0_i32_121 : BitVec 32 := 0#32
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let v650 : BitVec 1 := Scalar.cmpi .sgt v649 v646
  let v651 : BitVec 32 := Scalar.extui v650
  let c0_i32_299 : BitVec 32 := 0#32
  let v652 : BitVec 1 := Scalar.cmpi .ne v651 c0_i32_299
  v652

def k1_off18 (i : grid1.Coords) (v288 : BitVec 32) (v293 : BitVec 32) (k1_t5 : Fin (k1_t5_loop i v288 v293).trips) : Fin 2 → Nat :=
  let c256_i32_295 : BitVec 32 := 256#32
  let c0_i32_294 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let c1_i32_1197 : BitVec 32 := 1#32
  let arg13 : BitVec 32 := Scf.iv v646 c1_i32_1197 k1_t5
  let v1828 : Index := Scalar.indexCast arg13
  let c0_1207 : Index := 0#32
  ![v1828.toNat, 0]
def k1_off19 (i : grid1.Coords) (v288 : BitVec 32) (v293 : BitVec 32) (k1_t5 : Fin (k1_t5_loop i v288 v293).trips) : Fin 2 → Nat :=
  let c256_i32_295 : BitVec 32 := 256#32
  let c0_i32_294 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let c1_i32_1197 : BitVec 32 := 1#32
  let arg13 : BitVec 32 := Scf.iv v646 c1_i32_1197 k1_t5
  let v1832 : Index := Scalar.indexCast arg13
  let c16_1208 : Index := 16#32
  ![v1832.toNat, 16]
def k1_off20 (i : grid1.Coords) (v288 : BitVec 32) (v293 : BitVec 32) (k1_t5 : Fin (k1_t5_loop i v288 v293).trips) : Fin 2 → Nat :=
  let c256_i32_295 : BitVec 32 := 256#32
  let c0_i32_294 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let c1_i32_1197 : BitVec 32 := 1#32
  let arg13 : BitVec 32 := Scf.iv v646 c1_i32_1197 k1_t5
  let v1836 : Index := Scalar.indexCast arg13
  let c32_1209 : Index := 32#32
  ![v1836.toNat, 32]
def k1_off21 (i : grid1.Coords) (v288 : BitVec 32) (v293 : BitVec 32) (k1_t5 : Fin (k1_t5_loop i v288 v293).trips) : Fin 2 → Nat :=
  let c256_i32_295 : BitVec 32 := 256#32
  let c0_i32_294 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let c1_i32_1197 : BitVec 32 := 1#32
  let arg13 : BitVec 32 := Scf.iv v646 c1_i32_1197 k1_t5
  let v1840 : Index := Scalar.indexCast arg13
  let c48_1210 : Index := 48#32
  ![v1840.toNat, 48]
@[reducible] def k1_t6_loop (i : grid1.Coords) (v288 : BitVec 32) (v293 : BitVec 32) : Scf.Loop 32 :=
  let c256_i32_295 : BitVec 32 := 256#32
  let c0_i32_294 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let c256_i32_298 : BitVec 32 := 256#32
  let c0_i32_297 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c0_i32_296 : BitVec 32 := 0#32
  let v647 : BitVec 32 := Scalar.subi v296 c0_i32_296
  let v648 : BitVec 32 := Scalar.maxsi c0_i32_297 v647
  let v649 : BitVec 32 := Scalar.minsi c256_i32_298 v648
  let v1805 : BitVec 32 := Scalar.subi v649 v646
  let c1_i32_1196 : BitVec 32 := 1#32
  let v1807 : BitVec 32 := Scalar.divsi v1805 c1_i32_1196
  let v1808 : BitVec 32 := Scalar.muli v1807 c1_i32_1196
  let v1809 : BitVec 32 := Scalar.addi v646 v1808
  let v1806 : BitVec 32 := Scalar.addi v646 v1805
  let c1_i32_1198 : BitVec 32 := 1#32
  ⟨v1809, v1806, c1_i32_1198⟩
def k1_off22 (i : grid1.Coords) (v288 : BitVec 32) (v293 : BitVec 32) (k1_t6 : Fin (k1_t6_loop i v288 v293).trips) : Fin 2 → Nat :=
  let c256_i32_295 : BitVec 32 := 256#32
  let c0_i32_294 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let c256_i32_298 : BitVec 32 := 256#32
  let c0_i32_297 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c0_i32_296 : BitVec 32 := 0#32
  let v647 : BitVec 32 := Scalar.subi v296 c0_i32_296
  let v648 : BitVec 32 := Scalar.maxsi c0_i32_297 v647
  let v649 : BitVec 32 := Scalar.minsi c256_i32_298 v648
  let v1805 : BitVec 32 := Scalar.subi v649 v646
  let c1_i32_1196 : BitVec 32 := 1#32
  let v1807 : BitVec 32 := Scalar.divsi v1805 c1_i32_1196
  let v1808 : BitVec 32 := Scalar.muli v1807 c1_i32_1196
  let v1809 : BitVec 32 := Scalar.addi v646 v1808
  let c1_i32_1198 : BitVec 32 := 1#32
  let arg13 : BitVec 32 := Scf.iv v1809 c1_i32_1198 k1_t6
  let v1828 : Index := Scalar.indexCast arg13
  let c0_1207 : Index := 0#32
  ![v1828.toNat, 0]
def k1_off23 (i : grid1.Coords) (v288 : BitVec 32) (v293 : BitVec 32) (k1_t6 : Fin (k1_t6_loop i v288 v293).trips) : Fin 2 → Nat :=
  let c256_i32_295 : BitVec 32 := 256#32
  let c0_i32_294 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let c256_i32_298 : BitVec 32 := 256#32
  let c0_i32_297 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c0_i32_296 : BitVec 32 := 0#32
  let v647 : BitVec 32 := Scalar.subi v296 c0_i32_296
  let v648 : BitVec 32 := Scalar.maxsi c0_i32_297 v647
  let v649 : BitVec 32 := Scalar.minsi c256_i32_298 v648
  let v1805 : BitVec 32 := Scalar.subi v649 v646
  let c1_i32_1196 : BitVec 32 := 1#32
  let v1807 : BitVec 32 := Scalar.divsi v1805 c1_i32_1196
  let v1808 : BitVec 32 := Scalar.muli v1807 c1_i32_1196
  let v1809 : BitVec 32 := Scalar.addi v646 v1808
  let c1_i32_1198 : BitVec 32 := 1#32
  let arg13 : BitVec 32 := Scf.iv v1809 c1_i32_1198 k1_t6
  let v1832 : Index := Scalar.indexCast arg13
  let c16_1208 : Index := 16#32
  ![v1832.toNat, 16]
def k1_off24 (i : grid1.Coords) (v288 : BitVec 32) (v293 : BitVec 32) (k1_t6 : Fin (k1_t6_loop i v288 v293).trips) : Fin 2 → Nat :=
  let c256_i32_295 : BitVec 32 := 256#32
  let c0_i32_294 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let c256_i32_298 : BitVec 32 := 256#32
  let c0_i32_297 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c0_i32_296 : BitVec 32 := 0#32
  let v647 : BitVec 32 := Scalar.subi v296 c0_i32_296
  let v648 : BitVec 32 := Scalar.maxsi c0_i32_297 v647
  let v649 : BitVec 32 := Scalar.minsi c256_i32_298 v648
  let v1805 : BitVec 32 := Scalar.subi v649 v646
  let c1_i32_1196 : BitVec 32 := 1#32
  let v1807 : BitVec 32 := Scalar.divsi v1805 c1_i32_1196
  let v1808 : BitVec 32 := Scalar.muli v1807 c1_i32_1196
  let v1809 : BitVec 32 := Scalar.addi v646 v1808
  let c1_i32_1198 : BitVec 32 := 1#32
  let arg13 : BitVec 32 := Scf.iv v1809 c1_i32_1198 k1_t6
  let v1836 : Index := Scalar.indexCast arg13
  let c32_1209 : Index := 32#32
  ![v1836.toNat, 32]
def k1_off25 (i : grid1.Coords) (v288 : BitVec 32) (v293 : BitVec 32) (k1_t6 : Fin (k1_t6_loop i v288 v293).trips) : Fin 2 → Nat :=
  let c256_i32_295 : BitVec 32 := 256#32
  let c0_i32_294 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c0_i32_293 : BitVec 32 := 0#32
  let v644 : BitVec 32 := Scalar.subi v291 c0_i32_293
  let v645 : BitVec 32 := Scalar.maxsi c0_i32_294 v644
  let v646 : BitVec 32 := Scalar.minsi c256_i32_295 v645
  let c256_i32_298 : BitVec 32 := 256#32
  let c0_i32_297 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c0_i32_296 : BitVec 32 := 0#32
  let v647 : BitVec 32 := Scalar.subi v296 c0_i32_296
  let v648 : BitVec 32 := Scalar.maxsi c0_i32_297 v647
  let v649 : BitVec 32 := Scalar.minsi c256_i32_298 v648
  let v1805 : BitVec 32 := Scalar.subi v649 v646
  let c1_i32_1196 : BitVec 32 := 1#32
  let v1807 : BitVec 32 := Scalar.divsi v1805 c1_i32_1196
  let v1808 : BitVec 32 := Scalar.muli v1807 c1_i32_1196
  let v1809 : BitVec 32 := Scalar.addi v646 v1808
  let c1_i32_1198 : BitVec 32 := 1#32
  let arg13 : BitVec 32 := Scf.iv v1809 c1_i32_1198 k1_t6
  let v1840 : Index := Scalar.indexCast arg13
  let c48_1210 : Index := 48#32
  ![v1840.toNat, 48]
@[reducible] def k1_t7_loop (i : grid1.Coords) (v298 : BitVec 32) (v304 : BitVec 32) : Scf.Loop 32 :=
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let c256_i32_305 : BitVec 32 := 256#32
  let c0_i32_304 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c0_i32_303 : BitVec 32 := 0#32
  let v656 : BitVec 32 := Scalar.subi v308 c0_i32_303
  let v657 : BitVec 32 := Scalar.maxsi c0_i32_304 v656
  let v658 : BitVec 32 := Scalar.minsi c256_i32_305 v657
  let v1805 : BitVec 32 := Scalar.subi v658 v655
  let c1_i32_1196 : BitVec 32 := 1#32
  let v1807 : BitVec 32 := Scalar.divsi v1805 c1_i32_1196
  let v1808 : BitVec 32 := Scalar.muli v1807 c1_i32_1196
  let v1809 : BitVec 32 := Scalar.addi v655 v1808
  let c1_i32_1197 : BitVec 32 := 1#32
  ⟨v655, v1809, c1_i32_1197⟩
def k1_cond4 (i : grid1.Coords) (v298 : BitVec 32) (v304 : BitVec 32) : BitVec 1 :=
  let c256_i32_305 : BitVec 32 := 256#32
  let c0_i32_304 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v306 : BitVec 32 := Scalar.subi v305 v3
  let v307 : BitVec 32 := Scalar.maxsi c0_i32_129 v306
  let v308 : BitVec 32 := Scalar.minsi c1024_i32_130 v307
  let c0_i32_303 : BitVec 32 := 0#32
  let v656 : BitVec 32 := Scalar.subi v308 c0_i32_303
  let v657 : BitVec 32 := Scalar.maxsi c0_i32_304 v656
  let v658 : BitVec 32 := Scalar.minsi c256_i32_305 v657
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let v659 : BitVec 1 := Scalar.cmpi .sgt v658 v655
  let v660 : BitVec 32 := Scalar.extui v659
  let c0_i32_306 : BitVec 32 := 0#32
  let v661 : BitVec 1 := Scalar.cmpi .ne v660 c0_i32_306
  v661

def k1_off26 (i : grid1.Coords) (v298 : BitVec 32) (v304 : BitVec 32) (k1_t7 : Fin (k1_t7_loop i v298 v304).trips) : Fin 2 → Nat :=
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let c1_i32_1197 : BitVec 32 := 1#32
  let arg13 : BitVec 32 := Scf.iv v655 c1_i32_1197 k1_t7
  let v1828 : Index := Scalar.indexCast arg13
  let c64 : Index := 64#32
  ![v1828.toNat, 64]
def k1_off27 (i : grid1.Coords) (v298 : BitVec 32) (v304 : BitVec 32) (k1_t7 : Fin (k1_t7_loop i v298 v304).trips) : Fin 2 → Nat :=
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let c1_i32_1197 : BitVec 32 := 1#32
  let arg13 : BitVec 32 := Scf.iv v655 c1_i32_1197 k1_t7
  let v1832 : Index := Scalar.indexCast arg13
  let c80 : Index := 80#32
  ![v1832.toNat, 80]
def k1_off28 (i : grid1.Coords) (v298 : BitVec 32) (v304 : BitVec 32) (k1_t7 : Fin (k1_t7_loop i v298 v304).trips) : Fin 2 → Nat :=
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let c1_i32_1197 : BitVec 32 := 1#32
  let arg13 : BitVec 32 := Scf.iv v655 c1_i32_1197 k1_t7
  let v1836 : Index := Scalar.indexCast arg13
  let c96 : Index := 96#32
  ![v1836.toNat, 96]
def k1_off29 (i : grid1.Coords) (v298 : BitVec 32) (v304 : BitVec 32) (k1_t7 : Fin (k1_t7_loop i v298 v304).trips) : Fin 2 → Nat :=
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let c1_i32_1197 : BitVec 32 := 1#32
  let arg13 : BitVec 32 := Scf.iv v655 c1_i32_1197 k1_t7
  let v1840 : Index := Scalar.indexCast arg13
  let c112 : Index := 112#32
  ![v1840.toNat, 112]
@[reducible] def k1_t8_loop (i : grid1.Coords) (v298 : BitVec 32) (v304 : BitVec 32) : Scf.Loop 32 :=
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let c256_i32_305 : BitVec 32 := 256#32
  let c0_i32_304 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c0_i32_303 : BitVec 32 := 0#32
  let v656 : BitVec 32 := Scalar.subi v308 c0_i32_303
  let v657 : BitVec 32 := Scalar.maxsi c0_i32_304 v656
  let v658 : BitVec 32 := Scalar.minsi c256_i32_305 v657
  let v1805 : BitVec 32 := Scalar.subi v658 v655
  let c1_i32_1196 : BitVec 32 := 1#32
  let v1807 : BitVec 32 := Scalar.divsi v1805 c1_i32_1196
  let v1808 : BitVec 32 := Scalar.muli v1807 c1_i32_1196
  let v1809 : BitVec 32 := Scalar.addi v655 v1808
  let v1806 : BitVec 32 := Scalar.addi v655 v1805
  let c1_i32_1198 : BitVec 32 := 1#32
  ⟨v1809, v1806, c1_i32_1198⟩
def k1_off30 (i : grid1.Coords) (v298 : BitVec 32) (v304 : BitVec 32) (k1_t8 : Fin (k1_t8_loop i v298 v304).trips) : Fin 2 → Nat :=
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let c256_i32_305 : BitVec 32 := 256#32
  let c0_i32_304 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c0_i32_303 : BitVec 32 := 0#32
  let v656 : BitVec 32 := Scalar.subi v308 c0_i32_303
  let v657 : BitVec 32 := Scalar.maxsi c0_i32_304 v656
  let v658 : BitVec 32 := Scalar.minsi c256_i32_305 v657
  let v1805 : BitVec 32 := Scalar.subi v658 v655
  let c1_i32_1196 : BitVec 32 := 1#32
  let v1807 : BitVec 32 := Scalar.divsi v1805 c1_i32_1196
  let v1808 : BitVec 32 := Scalar.muli v1807 c1_i32_1196
  let v1809 : BitVec 32 := Scalar.addi v655 v1808
  let c1_i32_1198 : BitVec 32 := 1#32
  let arg13 : BitVec 32 := Scf.iv v1809 c1_i32_1198 k1_t8
  let v1828 : Index := Scalar.indexCast arg13
  let c64 : Index := 64#32
  ![v1828.toNat, 64]
def k1_off31 (i : grid1.Coords) (v298 : BitVec 32) (v304 : BitVec 32) (k1_t8 : Fin (k1_t8_loop i v298 v304).trips) : Fin 2 → Nat :=
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let c256_i32_305 : BitVec 32 := 256#32
  let c0_i32_304 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c0_i32_303 : BitVec 32 := 0#32
  let v656 : BitVec 32 := Scalar.subi v308 c0_i32_303
  let v657 : BitVec 32 := Scalar.maxsi c0_i32_304 v656
  let v658 : BitVec 32 := Scalar.minsi c256_i32_305 v657
  let v1805 : BitVec 32 := Scalar.subi v658 v655
  let c1_i32_1196 : BitVec 32 := 1#32
  let v1807 : BitVec 32 := Scalar.divsi v1805 c1_i32_1196
  let v1808 : BitVec 32 := Scalar.muli v1807 c1_i32_1196
  let v1809 : BitVec 32 := Scalar.addi v655 v1808
  let c1_i32_1198 : BitVec 32 := 1#32
  let arg13 : BitVec 32 := Scf.iv v1809 c1_i32_1198 k1_t8
  let v1832 : Index := Scalar.indexCast arg13
  let c80 : Index := 80#32
  ![v1832.toNat, 80]
def k1_off32 (i : grid1.Coords) (v298 : BitVec 32) (v304 : BitVec 32) (k1_t8 : Fin (k1_t8_loop i v298 v304).trips) : Fin 2 → Nat :=
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let c256_i32_305 : BitVec 32 := 256#32
  let c0_i32_304 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c0_i32_303 : BitVec 32 := 0#32
  let v656 : BitVec 32 := Scalar.subi v308 c0_i32_303
  let v657 : BitVec 32 := Scalar.maxsi c0_i32_304 v656
  let v658 : BitVec 32 := Scalar.minsi c256_i32_305 v657
  let v1805 : BitVec 32 := Scalar.subi v658 v655
  let c1_i32_1196 : BitVec 32 := 1#32
  let v1807 : BitVec 32 := Scalar.divsi v1805 c1_i32_1196
  let v1808 : BitVec 32 := Scalar.muli v1807 c1_i32_1196
  let v1809 : BitVec 32 := Scalar.addi v655 v1808
  let c1_i32_1198 : BitVec 32 := 1#32
  let arg13 : BitVec 32 := Scf.iv v1809 c1_i32_1198 k1_t8
  let v1836 : Index := Scalar.indexCast arg13
  let c96 : Index := 96#32
  ![v1836.toNat, 96]
def k1_off33 (i : grid1.Coords) (v298 : BitVec 32) (v304 : BitVec 32) (k1_t8 : Fin (k1_t8_loop i v298 v304).trips) : Fin 2 → Nat :=
  let c256_i32_302 : BitVec 32 := 256#32
  let c0_i32_301 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c0_i32_300 : BitVec 32 := 0#32
  let v653 : BitVec 32 := Scalar.subi v302 c0_i32_300
  let v654 : BitVec 32 := Scalar.maxsi c0_i32_301 v653
  let v655 : BitVec 32 := Scalar.minsi c256_i32_302 v654
  let c256_i32_305 : BitVec 32 := 256#32
  let c0_i32_304 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c0_i32_303 : BitVec 32 := 0#32
  let v656 : BitVec 32 := Scalar.subi v308 c0_i32_303
  let v657 : BitVec 32 := Scalar.maxsi c0_i32_304 v656
  let v658 : BitVec 32 := Scalar.minsi c256_i32_305 v657
  let v1805 : BitVec 32 := Scalar.subi v658 v655
  let c1_i32_1196 : BitVec 32 := 1#32
  let v1807 : BitVec 32 := Scalar.divsi v1805 c1_i32_1196
  let v1808 : BitVec 32 := Scalar.muli v1807 c1_i32_1196
  let v1809 : BitVec 32 := Scalar.addi v655 v1808
  let c1_i32_1198 : BitVec 32 := 1#32
  let arg13 : BitVec 32 := Scf.iv v1809 c1_i32_1198 k1_t8
  let v1840 : Index := Scalar.indexCast arg13
  let c112 : Index := 112#32
  ![v1840.toNat, 112]
@[reducible] def k1_t9_loop (i : grid1.Coords) (v310 : BitVec 32) (v315 : BitVec 32) : Scf.Loop 32 :=
  let c256_i32_309 : BitVec 32 := 256#32
  let c0_i32_308 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let c256_i32_312 : BitVec 32 := 256#32
  let c0_i32_311 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c0_i32_310 : BitVec 32 := 0#32
  let v665 : BitVec 32 := Scalar.subi v318 c0_i32_310
  let v666 : BitVec 32 := Scalar.maxsi c0_i32_311 v665
  let v667 : BitVec 32 := Scalar.minsi c256_i32_312 v666
  let v1805 : BitVec 32 := Scalar.subi v667 v664
  let c1_i32_1196 : BitVec 32 := 1#32
  let v1807 : BitVec 32 := Scalar.divsi v1805 c1_i32_1196
  let v1808 : BitVec 32 := Scalar.muli v1807 c1_i32_1196
  let v1809 : BitVec 32 := Scalar.addi v664 v1808
  let c1_i32_1197 : BitVec 32 := 1#32
  ⟨v664, v1809, c1_i32_1197⟩
def k1_cond5 (i : grid1.Coords) (v310 : BitVec 32) (v315 : BitVec 32) : BitVec 1 :=
  let c256_i32_312 : BitVec 32 := 256#32
  let c0_i32_311 : BitVec 32 := 0#32
  let c1024_i32_134 : BitVec 32 := 1024#32
  let c0_i32_133 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v316 : BitVec 32 := Scalar.subi v315 v3
  let v317 : BitVec 32 := Scalar.maxsi c0_i32_133 v316
  let v318 : BitVec 32 := Scalar.minsi c1024_i32_134 v317
  let c0_i32_310 : BitVec 32 := 0#32
  let v665 : BitVec 32 := Scalar.subi v318 c0_i32_310
  let v666 : BitVec 32 := Scalar.maxsi c0_i32_311 v665
  let v667 : BitVec 32 := Scalar.minsi c256_i32_312 v666
  let c256_i32_309 : BitVec 32 := 256#32
  let c0_i32_308 : BitVec 32 := 0#32
  let c1024_i32_132 : BitVec 32 := 1024#32
  let c0_i32_131 : BitVec 32 := 0#32
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let v668 : BitVec 1 := Scalar.cmpi .sgt v667 v664
  let v669 : BitVec 32 := Scalar.extui v668
  let c0_i32_313 : BitVec 32 := 0#32
  let v670 : BitVec 1 := Scalar.cmpi .ne v669 c0_i32_313
  v670

def k1_off34 (i : grid1.Coords) (v310 : BitVec 32) (v315 : BitVec 32) (k1_t9 : Fin (k1_t9_loop i v310 v315).trips) : Fin 2 → Nat :=
  let c256_i32_309 : BitVec 32 := 256#32
  let c0_i32_308 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let c1_i32_1197 : BitVec 32 := 1#32
  let arg13 : BitVec 32 := Scf.iv v664 c1_i32_1197 k1_t9
  let v1828 : Index := Scalar.indexCast arg13
  let c0_1207 : Index := 0#32
  ![v1828.toNat, 0]
def k1_off35 (i : grid1.Coords) (v310 : BitVec 32) (v315 : BitVec 32) (k1_t9 : Fin (k1_t9_loop i v310 v315).trips) : Fin 2 → Nat :=
  let c256_i32_309 : BitVec 32 := 256#32
  let c0_i32_308 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let c1_i32_1197 : BitVec 32 := 1#32
  let arg13 : BitVec 32 := Scf.iv v664 c1_i32_1197 k1_t9
  let v1832 : Index := Scalar.indexCast arg13
  let c16_1208 : Index := 16#32
  ![v1832.toNat, 16]
def k1_off36 (i : grid1.Coords) (v310 : BitVec 32) (v315 : BitVec 32) (k1_t9 : Fin (k1_t9_loop i v310 v315).trips) : Fin 2 → Nat :=
  let c256_i32_309 : BitVec 32 := 256#32
  let c0_i32_308 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let c1_i32_1197 : BitVec 32 := 1#32
  let arg13 : BitVec 32 := Scf.iv v664 c1_i32_1197 k1_t9
  let v1836 : Index := Scalar.indexCast arg13
  let c32_1209 : Index := 32#32
  ![v1836.toNat, 32]
def k1_off37 (i : grid1.Coords) (v310 : BitVec 32) (v315 : BitVec 32) (k1_t9 : Fin (k1_t9_loop i v310 v315).trips) : Fin 2 → Nat :=
  let c256_i32_309 : BitVec 32 := 256#32
  let c0_i32_308 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let c1_i32_1197 : BitVec 32 := 1#32
  let arg13 : BitVec 32 := Scf.iv v664 c1_i32_1197 k1_t9
  let v1840 : Index := Scalar.indexCast arg13
  let c48_1210 : Index := 48#32
  ![v1840.toNat, 48]
@[reducible] def k1_t10_loop (i : grid1.Coords) (v310 : BitVec 32) (v315 : BitVec 32) : Scf.Loop 32 :=
  let c256_i32_309 : BitVec 32 := 256#32
  let c0_i32_308 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let c256_i32_312 : BitVec 32 := 256#32
  let c0_i32_311 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c0_i32_310 : BitVec 32 := 0#32
  let v665 : BitVec 32 := Scalar.subi v318 c0_i32_310
  let v666 : BitVec 32 := Scalar.maxsi c0_i32_311 v665
  let v667 : BitVec 32 := Scalar.minsi c256_i32_312 v666
  let v1805 : BitVec 32 := Scalar.subi v667 v664
  let c1_i32_1196 : BitVec 32 := 1#32
  let v1807 : BitVec 32 := Scalar.divsi v1805 c1_i32_1196
  let v1808 : BitVec 32 := Scalar.muli v1807 c1_i32_1196
  let v1809 : BitVec 32 := Scalar.addi v664 v1808
  let v1806 : BitVec 32 := Scalar.addi v664 v1805
  let c1_i32_1198 : BitVec 32 := 1#32
  ⟨v1809, v1806, c1_i32_1198⟩
def k1_off38 (i : grid1.Coords) (v310 : BitVec 32) (v315 : BitVec 32) (k1_t10 : Fin (k1_t10_loop i v310 v315).trips) : Fin 2 → Nat :=
  let c256_i32_309 : BitVec 32 := 256#32
  let c0_i32_308 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let c256_i32_312 : BitVec 32 := 256#32
  let c0_i32_311 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c0_i32_310 : BitVec 32 := 0#32
  let v665 : BitVec 32 := Scalar.subi v318 c0_i32_310
  let v666 : BitVec 32 := Scalar.maxsi c0_i32_311 v665
  let v667 : BitVec 32 := Scalar.minsi c256_i32_312 v666
  let v1805 : BitVec 32 := Scalar.subi v667 v664
  let c1_i32_1196 : BitVec 32 := 1#32
  let v1807 : BitVec 32 := Scalar.divsi v1805 c1_i32_1196
  let v1808 : BitVec 32 := Scalar.muli v1807 c1_i32_1196
  let v1809 : BitVec 32 := Scalar.addi v664 v1808
  let c1_i32_1198 : BitVec 32 := 1#32
  let arg13 : BitVec 32 := Scf.iv v1809 c1_i32_1198 k1_t10
  let v1828 : Index := Scalar.indexCast arg13
  let c0_1207 : Index := 0#32
  ![v1828.toNat, 0]
def k1_off39 (i : grid1.Coords) (v310 : BitVec 32) (v315 : BitVec 32) (k1_t10 : Fin (k1_t10_loop i v310 v315).trips) : Fin 2 → Nat :=
  let c256_i32_309 : BitVec 32 := 256#32
  let c0_i32_308 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let c256_i32_312 : BitVec 32 := 256#32
  let c0_i32_311 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c0_i32_310 : BitVec 32 := 0#32
  let v665 : BitVec 32 := Scalar.subi v318 c0_i32_310
  let v666 : BitVec 32 := Scalar.maxsi c0_i32_311 v665
  let v667 : BitVec 32 := Scalar.minsi c256_i32_312 v666
  let v1805 : BitVec 32 := Scalar.subi v667 v664
  let c1_i32_1196 : BitVec 32 := 1#32
  let v1807 : BitVec 32 := Scalar.divsi v1805 c1_i32_1196
  let v1808 : BitVec 32 := Scalar.muli v1807 c1_i32_1196
  let v1809 : BitVec 32 := Scalar.addi v664 v1808
  let c1_i32_1198 : BitVec 32 := 1#32
  let arg13 : BitVec 32 := Scf.iv v1809 c1_i32_1198 k1_t10
  let v1832 : Index := Scalar.indexCast arg13
  let c16_1208 : Index := 16#32
  ![v1832.toNat, 16]
def k1_off40 (i : grid1.Coords) (v310 : BitVec 32) (v315 : BitVec 32) (k1_t10 : Fin (k1_t10_loop i v310 v315).trips) : Fin 2 → Nat :=
  let c256_i32_309 : BitVec 32 := 256#32
  let c0_i32_308 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let c256_i32_312 : BitVec 32 := 256#32
  let c0_i32_311 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c0_i32_310 : BitVec 32 := 0#32
  let v665 : BitVec 32 := Scalar.subi v318 c0_i32_310
  let v666 : BitVec 32 := Scalar.maxsi c0_i32_311 v665
  let v667 : BitVec 32 := Scalar.minsi c256_i32_312 v666
  let v1805 : BitVec 32 := Scalar.subi v667 v664
  let c1_i32_1196 : BitVec 32 := 1#32
  let v1807 : BitVec 32 := Scalar.divsi v1805 c1_i32_1196
  let v1808 : BitVec 32 := Scalar.muli v1807 c1_i32_1196
  let v1809 : BitVec 32 := Scalar.addi v664 v1808
  let c1_i32_1198 : BitVec 32 := 1#32
  let arg13 : BitVec 32 := Scf.iv v1809 c1_i32_1198 k1_t10
  let v1836 : Index := Scalar.indexCast arg13
  let c32_1209 : Index := 32#32
  ![v1836.toNat, 32]
def k1_off41 (i : grid1.Coords) (v310 : BitVec 32) (v315 : BitVec 32) (k1_t10 : Fin (k1_t10_loop i v310 v315).trips) : Fin 2 → Nat :=
  let c256_i32_309 : BitVec 32 := 256#32
  let c0_i32_308 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c0_i32_307 : BitVec 32 := 0#32
  let v662 : BitVec 32 := Scalar.subi v313 c0_i32_307
  let v663 : BitVec 32 := Scalar.maxsi c0_i32_308 v662
  let v664 : BitVec 32 := Scalar.minsi c256_i32_309 v663
  let c256_i32_312 : BitVec 32 := 256#32
  let c0_i32_311 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c0_i32_310 : BitVec 32 := 0#32
  let v665 : BitVec 32 := Scalar.subi v318 c0_i32_310
  let v666 : BitVec 32 := Scalar.maxsi c0_i32_311 v665
  let v667 : BitVec 32 := Scalar.minsi c256_i32_312 v666
  let v1805 : BitVec 32 := Scalar.subi v667 v664
  let c1_i32_1196 : BitVec 32 := 1#32
  let v1807 : BitVec 32 := Scalar.divsi v1805 c1_i32_1196
  let v1808 : BitVec 32 := Scalar.muli v1807 c1_i32_1196
  let v1809 : BitVec 32 := Scalar.addi v664 v1808
  let c1_i32_1198 : BitVec 32 := 1#32
  let arg13 : BitVec 32 := Scf.iv v1809 c1_i32_1198 k1_t10
  let v1840 : Index := Scalar.indexCast arg13
  let c48_1210 : Index := 48#32
  ![v1840.toNat, 48]
@[reducible] def k1_t11_loop (i : grid1.Coords) (v320 : BitVec 32) (v326 : BitVec 32) : Scf.Loop 32 :=
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let c256_i32_319 : BitVec 32 := 256#32
  let c0_i32_318 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c0_i32_317 : BitVec 32 := 0#32
  let v674 : BitVec 32 := Scalar.subi v330 c0_i32_317
  let v675 : BitVec 32 := Scalar.maxsi c0_i32_318 v674
  let v676 : BitVec 32 := Scalar.minsi c256_i32_319 v675
  let v1805 : BitVec 32 := Scalar.subi v676 v673
  let c1_i32_1196 : BitVec 32 := 1#32
  let v1807 : BitVec 32 := Scalar.divsi v1805 c1_i32_1196
  let v1808 : BitVec 32 := Scalar.muli v1807 c1_i32_1196
  let v1809 : BitVec 32 := Scalar.addi v673 v1808
  let c1_i32_1197 : BitVec 32 := 1#32
  ⟨v673, v1809, c1_i32_1197⟩
def k1_cond6 (i : grid1.Coords) (v320 : BitVec 32) (v326 : BitVec 32) : BitVec 1 :=
  let c256_i32_319 : BitVec 32 := 256#32
  let c0_i32_318 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v328 : BitVec 32 := Scalar.subi v327 v3
  let v329 : BitVec 32 := Scalar.maxsi c0_i32_139 v328
  let v330 : BitVec 32 := Scalar.minsi c1024_i32_140 v329
  let c0_i32_317 : BitVec 32 := 0#32
  let v674 : BitVec 32 := Scalar.subi v330 c0_i32_317
  let v675 : BitVec 32 := Scalar.maxsi c0_i32_318 v674
  let v676 : BitVec 32 := Scalar.minsi c256_i32_319 v675
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let v677 : BitVec 1 := Scalar.cmpi .sgt v676 v673
  let v678 : BitVec 32 := Scalar.extui v677
  let c0_i32_320 : BitVec 32 := 0#32
  let v679 : BitVec 1 := Scalar.cmpi .ne v678 c0_i32_320
  v679

def k1_off42 (i : grid1.Coords) (v320 : BitVec 32) (v326 : BitVec 32) (k1_t11 : Fin (k1_t11_loop i v320 v326).trips) : Fin 2 → Nat :=
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let c1_i32_1197 : BitVec 32 := 1#32
  let arg13 : BitVec 32 := Scf.iv v673 c1_i32_1197 k1_t11
  let v1828 : Index := Scalar.indexCast arg13
  let c64 : Index := 64#32
  ![v1828.toNat, 64]
def k1_off43 (i : grid1.Coords) (v320 : BitVec 32) (v326 : BitVec 32) (k1_t11 : Fin (k1_t11_loop i v320 v326).trips) : Fin 2 → Nat :=
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let c1_i32_1197 : BitVec 32 := 1#32
  let arg13 : BitVec 32 := Scf.iv v673 c1_i32_1197 k1_t11
  let v1832 : Index := Scalar.indexCast arg13
  let c80 : Index := 80#32
  ![v1832.toNat, 80]
def k1_off44 (i : grid1.Coords) (v320 : BitVec 32) (v326 : BitVec 32) (k1_t11 : Fin (k1_t11_loop i v320 v326).trips) : Fin 2 → Nat :=
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let c1_i32_1197 : BitVec 32 := 1#32
  let arg13 : BitVec 32 := Scf.iv v673 c1_i32_1197 k1_t11
  let v1836 : Index := Scalar.indexCast arg13
  let c96 : Index := 96#32
  ![v1836.toNat, 96]
def k1_off45 (i : grid1.Coords) (v320 : BitVec 32) (v326 : BitVec 32) (k1_t11 : Fin (k1_t11_loop i v320 v326).trips) : Fin 2 → Nat :=
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let c1_i32_1197 : BitVec 32 := 1#32
  let arg13 : BitVec 32 := Scf.iv v673 c1_i32_1197 k1_t11
  let v1840 : Index := Scalar.indexCast arg13
  let c112 : Index := 112#32
  ![v1840.toNat, 112]
@[reducible] def k1_t12_loop (i : grid1.Coords) (v320 : BitVec 32) (v326 : BitVec 32) : Scf.Loop 32 :=
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let c256_i32_319 : BitVec 32 := 256#32
  let c0_i32_318 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c0_i32_317 : BitVec 32 := 0#32
  let v674 : BitVec 32 := Scalar.subi v330 c0_i32_317
  let v675 : BitVec 32 := Scalar.maxsi c0_i32_318 v674
  let v676 : BitVec 32 := Scalar.minsi c256_i32_319 v675
  let v1805 : BitVec 32 := Scalar.subi v676 v673
  let c1_i32_1196 : BitVec 32 := 1#32
  let v1807 : BitVec 32 := Scalar.divsi v1805 c1_i32_1196
  let v1808 : BitVec 32 := Scalar.muli v1807 c1_i32_1196
  let v1809 : BitVec 32 := Scalar.addi v673 v1808
  let v1806 : BitVec 32 := Scalar.addi v673 v1805
  let c1_i32_1198 : BitVec 32 := 1#32
  ⟨v1809, v1806, c1_i32_1198⟩
def k1_off46 (i : grid1.Coords) (v320 : BitVec 32) (v326 : BitVec 32) (k1_t12 : Fin (k1_t12_loop i v320 v326).trips) : Fin 2 → Nat :=
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let c256_i32_319 : BitVec 32 := 256#32
  let c0_i32_318 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c0_i32_317 : BitVec 32 := 0#32
  let v674 : BitVec 32 := Scalar.subi v330 c0_i32_317
  let v675 : BitVec 32 := Scalar.maxsi c0_i32_318 v674
  let v676 : BitVec 32 := Scalar.minsi c256_i32_319 v675
  let v1805 : BitVec 32 := Scalar.subi v676 v673
  let c1_i32_1196 : BitVec 32 := 1#32
  let v1807 : BitVec 32 := Scalar.divsi v1805 c1_i32_1196
  let v1808 : BitVec 32 := Scalar.muli v1807 c1_i32_1196
  let v1809 : BitVec 32 := Scalar.addi v673 v1808
  let c1_i32_1198 : BitVec 32 := 1#32
  let arg13 : BitVec 32 := Scf.iv v1809 c1_i32_1198 k1_t12
  let v1828 : Index := Scalar.indexCast arg13
  let c64 : Index := 64#32
  ![v1828.toNat, 64]
def k1_off47 (i : grid1.Coords) (v320 : BitVec 32) (v326 : BitVec 32) (k1_t12 : Fin (k1_t12_loop i v320 v326).trips) : Fin 2 → Nat :=
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let c256_i32_319 : BitVec 32 := 256#32
  let c0_i32_318 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c0_i32_317 : BitVec 32 := 0#32
  let v674 : BitVec 32 := Scalar.subi v330 c0_i32_317
  let v675 : BitVec 32 := Scalar.maxsi c0_i32_318 v674
  let v676 : BitVec 32 := Scalar.minsi c256_i32_319 v675
  let v1805 : BitVec 32 := Scalar.subi v676 v673
  let c1_i32_1196 : BitVec 32 := 1#32
  let v1807 : BitVec 32 := Scalar.divsi v1805 c1_i32_1196
  let v1808 : BitVec 32 := Scalar.muli v1807 c1_i32_1196
  let v1809 : BitVec 32 := Scalar.addi v673 v1808
  let c1_i32_1198 : BitVec 32 := 1#32
  let arg13 : BitVec 32 := Scf.iv v1809 c1_i32_1198 k1_t12
  let v1832 : Index := Scalar.indexCast arg13
  let c80 : Index := 80#32
  ![v1832.toNat, 80]
def k1_off48 (i : grid1.Coords) (v320 : BitVec 32) (v326 : BitVec 32) (k1_t12 : Fin (k1_t12_loop i v320 v326).trips) : Fin 2 → Nat :=
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let c256_i32_319 : BitVec 32 := 256#32
  let c0_i32_318 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c0_i32_317 : BitVec 32 := 0#32
  let v674 : BitVec 32 := Scalar.subi v330 c0_i32_317
  let v675 : BitVec 32 := Scalar.maxsi c0_i32_318 v674
  let v676 : BitVec 32 := Scalar.minsi c256_i32_319 v675
  let v1805 : BitVec 32 := Scalar.subi v676 v673
  let c1_i32_1196 : BitVec 32 := 1#32
  let v1807 : BitVec 32 := Scalar.divsi v1805 c1_i32_1196
  let v1808 : BitVec 32 := Scalar.muli v1807 c1_i32_1196
  let v1809 : BitVec 32 := Scalar.addi v673 v1808
  let c1_i32_1198 : BitVec 32 := 1#32
  let arg13 : BitVec 32 := Scf.iv v1809 c1_i32_1198 k1_t12
  let v1836 : Index := Scalar.indexCast arg13
  let c96 : Index := 96#32
  ![v1836.toNat, 96]
def k1_off49 (i : grid1.Coords) (v320 : BitVec 32) (v326 : BitVec 32) (k1_t12 : Fin (k1_t12_loop i v320 v326).trips) : Fin 2 → Nat :=
  let c256_i32_316 : BitVec 32 := 256#32
  let c0_i32_315 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c0_i32_314 : BitVec 32 := 0#32
  let v671 : BitVec 32 := Scalar.subi v324 c0_i32_314
  let v672 : BitVec 32 := Scalar.maxsi c0_i32_315 v671
  let v673 : BitVec 32 := Scalar.minsi c256_i32_316 v672
  let c256_i32_319 : BitVec 32 := 256#32
  let c0_i32_318 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c0_i32_317 : BitVec 32 := 0#32
  let v674 : BitVec 32 := Scalar.subi v330 c0_i32_317
  let v675 : BitVec 32 := Scalar.maxsi c0_i32_318 v674
  let v676 : BitVec 32 := Scalar.minsi c256_i32_319 v675
  let v1805 : BitVec 32 := Scalar.subi v676 v673
  let c1_i32_1196 : BitVec 32 := 1#32
  let v1807 : BitVec 32 := Scalar.divsi v1805 c1_i32_1196
  let v1808 : BitVec 32 := Scalar.muli v1807 c1_i32_1196
  let v1809 : BitVec 32 := Scalar.addi v673 v1808
  let c1_i32_1198 : BitVec 32 := 1#32
  let arg13 : BitVec 32 := Scf.iv v1809 c1_i32_1198 k1_t12
  let v1840 : Index := Scalar.indexCast arg13
  let c112 : Index := 112#32
  ![v1840.toNat, 112]
@[reducible] def k1_t13_loop (i : grid1.Coords) (v332 : BitVec 32) (v337 : BitVec 32) : Scf.Loop 32 :=
  let c256_i32_323 : BitVec 32 := 256#32
  let c0_i32_322 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let c256_i32_326 : BitVec 32 := 256#32
  let c0_i32_325 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c0_i32_324 : BitVec 32 := 0#32
  let v683 : BitVec 32 := Scalar.subi v340 c0_i32_324
  let v684 : BitVec 32 := Scalar.maxsi c0_i32_325 v683
  let v685 : BitVec 32 := Scalar.minsi c256_i32_326 v684
  let v1805 : BitVec 32 := Scalar.subi v685 v682
  let c1_i32_1196 : BitVec 32 := 1#32
  let v1807 : BitVec 32 := Scalar.divsi v1805 c1_i32_1196
  let v1808 : BitVec 32 := Scalar.muli v1807 c1_i32_1196
  let v1809 : BitVec 32 := Scalar.addi v682 v1808
  let c1_i32_1197 : BitVec 32 := 1#32
  ⟨v682, v1809, c1_i32_1197⟩
def k1_cond7 (i : grid1.Coords) (v332 : BitVec 32) (v337 : BitVec 32) : BitVec 1 :=
  let c256_i32_326 : BitVec 32 := 256#32
  let c0_i32_325 : BitVec 32 := 0#32
  let c1024_i32_144 : BitVec 32 := 1024#32
  let c0_i32_143 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v338 : BitVec 32 := Scalar.subi v337 v3
  let v339 : BitVec 32 := Scalar.maxsi c0_i32_143 v338
  let v340 : BitVec 32 := Scalar.minsi c1024_i32_144 v339
  let c0_i32_324 : BitVec 32 := 0#32
  let v683 : BitVec 32 := Scalar.subi v340 c0_i32_324
  let v684 : BitVec 32 := Scalar.maxsi c0_i32_325 v683
  let v685 : BitVec 32 := Scalar.minsi c256_i32_326 v684
  let c256_i32_323 : BitVec 32 := 256#32
  let c0_i32_322 : BitVec 32 := 0#32
  let c1024_i32_142 : BitVec 32 := 1024#32
  let c0_i32_141 : BitVec 32 := 0#32
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let v686 : BitVec 1 := Scalar.cmpi .sgt v685 v682
  let v687 : BitVec 32 := Scalar.extui v686
  let c0_i32_327 : BitVec 32 := 0#32
  let v688 : BitVec 1 := Scalar.cmpi .ne v687 c0_i32_327
  v688

def k1_off50 (i : grid1.Coords) (v332 : BitVec 32) (v337 : BitVec 32) (k1_t13 : Fin (k1_t13_loop i v332 v337).trips) : Fin 2 → Nat :=
  let c256_i32_323 : BitVec 32 := 256#32
  let c0_i32_322 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let c1_i32_1197 : BitVec 32 := 1#32
  let arg13 : BitVec 32 := Scf.iv v682 c1_i32_1197 k1_t13
  let v1828 : Index := Scalar.indexCast arg13
  let c0_1207 : Index := 0#32
  ![v1828.toNat, 0]
def k1_off51 (i : grid1.Coords) (v332 : BitVec 32) (v337 : BitVec 32) (k1_t13 : Fin (k1_t13_loop i v332 v337).trips) : Fin 2 → Nat :=
  let c256_i32_323 : BitVec 32 := 256#32
  let c0_i32_322 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let c1_i32_1197 : BitVec 32 := 1#32
  let arg13 : BitVec 32 := Scf.iv v682 c1_i32_1197 k1_t13
  let v1832 : Index := Scalar.indexCast arg13
  let c16_1208 : Index := 16#32
  ![v1832.toNat, 16]
def k1_off52 (i : grid1.Coords) (v332 : BitVec 32) (v337 : BitVec 32) (k1_t13 : Fin (k1_t13_loop i v332 v337).trips) : Fin 2 → Nat :=
  let c256_i32_323 : BitVec 32 := 256#32
  let c0_i32_322 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let c1_i32_1197 : BitVec 32 := 1#32
  let arg13 : BitVec 32 := Scf.iv v682 c1_i32_1197 k1_t13
  let v1836 : Index := Scalar.indexCast arg13
  let c32_1209 : Index := 32#32
  ![v1836.toNat, 32]
def k1_off53 (i : grid1.Coords) (v332 : BitVec 32) (v337 : BitVec 32) (k1_t13 : Fin (k1_t13_loop i v332 v337).trips) : Fin 2 → Nat :=
  let c256_i32_323 : BitVec 32 := 256#32
  let c0_i32_322 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let c1_i32_1197 : BitVec 32 := 1#32
  let arg13 : BitVec 32 := Scf.iv v682 c1_i32_1197 k1_t13
  let v1840 : Index := Scalar.indexCast arg13
  let c48_1210 : Index := 48#32
  ![v1840.toNat, 48]
@[reducible] def k1_t14_loop (i : grid1.Coords) (v332 : BitVec 32) (v337 : BitVec 32) : Scf.Loop 32 :=
  let c256_i32_323 : BitVec 32 := 256#32
  let c0_i32_322 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let c256_i32_326 : BitVec 32 := 256#32
  let c0_i32_325 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c0_i32_324 : BitVec 32 := 0#32
  let v683 : BitVec 32 := Scalar.subi v340 c0_i32_324
  let v684 : BitVec 32 := Scalar.maxsi c0_i32_325 v683
  let v685 : BitVec 32 := Scalar.minsi c256_i32_326 v684
  let v1805 : BitVec 32 := Scalar.subi v685 v682
  let c1_i32_1196 : BitVec 32 := 1#32
  let v1807 : BitVec 32 := Scalar.divsi v1805 c1_i32_1196
  let v1808 : BitVec 32 := Scalar.muli v1807 c1_i32_1196
  let v1809 : BitVec 32 := Scalar.addi v682 v1808
  let v1806 : BitVec 32 := Scalar.addi v682 v1805
  let c1_i32_1198 : BitVec 32 := 1#32
  ⟨v1809, v1806, c1_i32_1198⟩
def k1_off54 (i : grid1.Coords) (v332 : BitVec 32) (v337 : BitVec 32) (k1_t14 : Fin (k1_t14_loop i v332 v337).trips) : Fin 2 → Nat :=
  let c256_i32_323 : BitVec 32 := 256#32
  let c0_i32_322 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let c256_i32_326 : BitVec 32 := 256#32
  let c0_i32_325 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c0_i32_324 : BitVec 32 := 0#32
  let v683 : BitVec 32 := Scalar.subi v340 c0_i32_324
  let v684 : BitVec 32 := Scalar.maxsi c0_i32_325 v683
  let v685 : BitVec 32 := Scalar.minsi c256_i32_326 v684
  let v1805 : BitVec 32 := Scalar.subi v685 v682
  let c1_i32_1196 : BitVec 32 := 1#32
  let v1807 : BitVec 32 := Scalar.divsi v1805 c1_i32_1196
  let v1808 : BitVec 32 := Scalar.muli v1807 c1_i32_1196
  let v1809 : BitVec 32 := Scalar.addi v682 v1808
  let c1_i32_1198 : BitVec 32 := 1#32
  let arg13 : BitVec 32 := Scf.iv v1809 c1_i32_1198 k1_t14
  let v1828 : Index := Scalar.indexCast arg13
  let c0_1207 : Index := 0#32
  ![v1828.toNat, 0]
def k1_off55 (i : grid1.Coords) (v332 : BitVec 32) (v337 : BitVec 32) (k1_t14 : Fin (k1_t14_loop i v332 v337).trips) : Fin 2 → Nat :=
  let c256_i32_323 : BitVec 32 := 256#32
  let c0_i32_322 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let c256_i32_326 : BitVec 32 := 256#32
  let c0_i32_325 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c0_i32_324 : BitVec 32 := 0#32
  let v683 : BitVec 32 := Scalar.subi v340 c0_i32_324
  let v684 : BitVec 32 := Scalar.maxsi c0_i32_325 v683
  let v685 : BitVec 32 := Scalar.minsi c256_i32_326 v684
  let v1805 : BitVec 32 := Scalar.subi v685 v682
  let c1_i32_1196 : BitVec 32 := 1#32
  let v1807 : BitVec 32 := Scalar.divsi v1805 c1_i32_1196
  let v1808 : BitVec 32 := Scalar.muli v1807 c1_i32_1196
  let v1809 : BitVec 32 := Scalar.addi v682 v1808
  let c1_i32_1198 : BitVec 32 := 1#32
  let arg13 : BitVec 32 := Scf.iv v1809 c1_i32_1198 k1_t14
  let v1832 : Index := Scalar.indexCast arg13
  let c16_1208 : Index := 16#32
  ![v1832.toNat, 16]
def k1_off56 (i : grid1.Coords) (v332 : BitVec 32) (v337 : BitVec 32) (k1_t14 : Fin (k1_t14_loop i v332 v337).trips) : Fin 2 → Nat :=
  let c256_i32_323 : BitVec 32 := 256#32
  let c0_i32_322 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let c256_i32_326 : BitVec 32 := 256#32
  let c0_i32_325 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c0_i32_324 : BitVec 32 := 0#32
  let v683 : BitVec 32 := Scalar.subi v340 c0_i32_324
  let v684 : BitVec 32 := Scalar.maxsi c0_i32_325 v683
  let v685 : BitVec 32 := Scalar.minsi c256_i32_326 v684
  let v1805 : BitVec 32 := Scalar.subi v685 v682
  let c1_i32_1196 : BitVec 32 := 1#32
  let v1807 : BitVec 32 := Scalar.divsi v1805 c1_i32_1196
  let v1808 : BitVec 32 := Scalar.muli v1807 c1_i32_1196
  let v1809 : BitVec 32 := Scalar.addi v682 v1808
  let c1_i32_1198 : BitVec 32 := 1#32
  let arg13 : BitVec 32 := Scf.iv v1809 c1_i32_1198 k1_t14
  let v1836 : Index := Scalar.indexCast arg13
  let c32_1209 : Index := 32#32
  ![v1836.toNat, 32]
def k1_off57 (i : grid1.Coords) (v332 : BitVec 32) (v337 : BitVec 32) (k1_t14 : Fin (k1_t14_loop i v332 v337).trips) : Fin 2 → Nat :=
  let c256_i32_323 : BitVec 32 := 256#32
  let c0_i32_322 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c0_i32_321 : BitVec 32 := 0#32
  let v680 : BitVec 32 := Scalar.subi v335 c0_i32_321
  let v681 : BitVec 32 := Scalar.maxsi c0_i32_322 v680
  let v682 : BitVec 32 := Scalar.minsi c256_i32_323 v681
  let c256_i32_326 : BitVec 32 := 256#32
  let c0_i32_325 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c0_i32_324 : BitVec 32 := 0#32
  let v683 : BitVec 32 := Scalar.subi v340 c0_i32_324
  let v684 : BitVec 32 := Scalar.maxsi c0_i32_325 v683
  let v685 : BitVec 32 := Scalar.minsi c256_i32_326 v684
  let v1805 : BitVec 32 := Scalar.subi v685 v682
  let c1_i32_1196 : BitVec 32 := 1#32
  let v1807 : BitVec 32 := Scalar.divsi v1805 c1_i32_1196
  let v1808 : BitVec 32 := Scalar.muli v1807 c1_i32_1196
  let v1809 : BitVec 32 := Scalar.addi v682 v1808
  let c1_i32_1198 : BitVec 32 := 1#32
  let arg13 : BitVec 32 := Scf.iv v1809 c1_i32_1198 k1_t14
  let v1840 : Index := Scalar.indexCast arg13
  let c48_1210 : Index := 48#32
  ![v1840.toNat, 48]
@[reducible] def k1_t15_loop (i : grid1.Coords) (v342 : BitVec 32) (v348 : BitVec 32) : Scf.Loop 32 :=
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let c256_i32_333 : BitVec 32 := 256#32
  let c0_i32_332 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c0_i32_331 : BitVec 32 := 0#32
  let v692 : BitVec 32 := Scalar.subi v352 c0_i32_331
  let v693 : BitVec 32 := Scalar.maxsi c0_i32_332 v692
  let v694 : BitVec 32 := Scalar.minsi c256_i32_333 v693
  let v1805 : BitVec 32 := Scalar.subi v694 v691
  let c1_i32_1196 : BitVec 32 := 1#32
  let v1807 : BitVec 32 := Scalar.divsi v1805 c1_i32_1196
  let v1808 : BitVec 32 := Scalar.muli v1807 c1_i32_1196
  let v1809 : BitVec 32 := Scalar.addi v691 v1808
  let c1_i32_1197 : BitVec 32 := 1#32
  ⟨v691, v1809, c1_i32_1197⟩
def k1_cond8 (i : grid1.Coords) (v342 : BitVec 32) (v348 : BitVec 32) : BitVec 1 :=
  let c256_i32_333 : BitVec 32 := 256#32
  let c0_i32_332 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v350 : BitVec 32 := Scalar.subi v349 v3
  let v351 : BitVec 32 := Scalar.maxsi c0_i32_149 v350
  let v352 : BitVec 32 := Scalar.minsi c1024_i32_150 v351
  let c0_i32_331 : BitVec 32 := 0#32
  let v692 : BitVec 32 := Scalar.subi v352 c0_i32_331
  let v693 : BitVec 32 := Scalar.maxsi c0_i32_332 v692
  let v694 : BitVec 32 := Scalar.minsi c256_i32_333 v693
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let v695 : BitVec 1 := Scalar.cmpi .sgt v694 v691
  let v696 : BitVec 32 := Scalar.extui v695
  let c0_i32_334 : BitVec 32 := 0#32
  let v697 : BitVec 1 := Scalar.cmpi .ne v696 c0_i32_334
  v697

def k1_off58 (i : grid1.Coords) (v342 : BitVec 32) (v348 : BitVec 32) (k1_t15 : Fin (k1_t15_loop i v342 v348).trips) : Fin 2 → Nat :=
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let c1_i32_1197 : BitVec 32 := 1#32
  let arg13 : BitVec 32 := Scf.iv v691 c1_i32_1197 k1_t15
  let v1828 : Index := Scalar.indexCast arg13
  let c64 : Index := 64#32
  ![v1828.toNat, 64]
def k1_off59 (i : grid1.Coords) (v342 : BitVec 32) (v348 : BitVec 32) (k1_t15 : Fin (k1_t15_loop i v342 v348).trips) : Fin 2 → Nat :=
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let c1_i32_1197 : BitVec 32 := 1#32
  let arg13 : BitVec 32 := Scf.iv v691 c1_i32_1197 k1_t15
  let v1832 : Index := Scalar.indexCast arg13
  let c80 : Index := 80#32
  ![v1832.toNat, 80]
def k1_off60 (i : grid1.Coords) (v342 : BitVec 32) (v348 : BitVec 32) (k1_t15 : Fin (k1_t15_loop i v342 v348).trips) : Fin 2 → Nat :=
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let c1_i32_1197 : BitVec 32 := 1#32
  let arg13 : BitVec 32 := Scf.iv v691 c1_i32_1197 k1_t15
  let v1836 : Index := Scalar.indexCast arg13
  let c96 : Index := 96#32
  ![v1836.toNat, 96]
def k1_off61 (i : grid1.Coords) (v342 : BitVec 32) (v348 : BitVec 32) (k1_t15 : Fin (k1_t15_loop i v342 v348).trips) : Fin 2 → Nat :=
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let c1_i32_1197 : BitVec 32 := 1#32
  let arg13 : BitVec 32 := Scf.iv v691 c1_i32_1197 k1_t15
  let v1840 : Index := Scalar.indexCast arg13
  let c112 : Index := 112#32
  ![v1840.toNat, 112]
@[reducible] def k1_t16_loop (i : grid1.Coords) (v342 : BitVec 32) (v348 : BitVec 32) : Scf.Loop 32 :=
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let c256_i32_333 : BitVec 32 := 256#32
  let c0_i32_332 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c0_i32_331 : BitVec 32 := 0#32
  let v692 : BitVec 32 := Scalar.subi v352 c0_i32_331
  let v693 : BitVec 32 := Scalar.maxsi c0_i32_332 v692
  let v694 : BitVec 32 := Scalar.minsi c256_i32_333 v693
  let v1805 : BitVec 32 := Scalar.subi v694 v691
  let c1_i32_1196 : BitVec 32 := 1#32
  let v1807 : BitVec 32 := Scalar.divsi v1805 c1_i32_1196
  let v1808 : BitVec 32 := Scalar.muli v1807 c1_i32_1196
  let v1809 : BitVec 32 := Scalar.addi v691 v1808
  let v1806 : BitVec 32 := Scalar.addi v691 v1805
  let c1_i32_1198 : BitVec 32 := 1#32
  ⟨v1809, v1806, c1_i32_1198⟩
def k1_off62 (i : grid1.Coords) (v342 : BitVec 32) (v348 : BitVec 32) (k1_t16 : Fin (k1_t16_loop i v342 v348).trips) : Fin 2 → Nat :=
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let c256_i32_333 : BitVec 32 := 256#32
  let c0_i32_332 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c0_i32_331 : BitVec 32 := 0#32
  let v692 : BitVec 32 := Scalar.subi v352 c0_i32_331
  let v693 : BitVec 32 := Scalar.maxsi c0_i32_332 v692
  let v694 : BitVec 32 := Scalar.minsi c256_i32_333 v693
  let v1805 : BitVec 32 := Scalar.subi v694 v691
  let c1_i32_1196 : BitVec 32 := 1#32
  let v1807 : BitVec 32 := Scalar.divsi v1805 c1_i32_1196
  let v1808 : BitVec 32 := Scalar.muli v1807 c1_i32_1196
  let v1809 : BitVec 32 := Scalar.addi v691 v1808
  let c1_i32_1198 : BitVec 32 := 1#32
  let arg13 : BitVec 32 := Scf.iv v1809 c1_i32_1198 k1_t16
  let v1828 : Index := Scalar.indexCast arg13
  let c64 : Index := 64#32
  ![v1828.toNat, 64]
def k1_off63 (i : grid1.Coords) (v342 : BitVec 32) (v348 : BitVec 32) (k1_t16 : Fin (k1_t16_loop i v342 v348).trips) : Fin 2 → Nat :=
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let c256_i32_333 : BitVec 32 := 256#32
  let c0_i32_332 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c0_i32_331 : BitVec 32 := 0#32
  let v692 : BitVec 32 := Scalar.subi v352 c0_i32_331
  let v693 : BitVec 32 := Scalar.maxsi c0_i32_332 v692
  let v694 : BitVec 32 := Scalar.minsi c256_i32_333 v693
  let v1805 : BitVec 32 := Scalar.subi v694 v691
  let c1_i32_1196 : BitVec 32 := 1#32
  let v1807 : BitVec 32 := Scalar.divsi v1805 c1_i32_1196
  let v1808 : BitVec 32 := Scalar.muli v1807 c1_i32_1196
  let v1809 : BitVec 32 := Scalar.addi v691 v1808
  let c1_i32_1198 : BitVec 32 := 1#32
  let arg13 : BitVec 32 := Scf.iv v1809 c1_i32_1198 k1_t16
  let v1832 : Index := Scalar.indexCast arg13
  let c80 : Index := 80#32
  ![v1832.toNat, 80]
def k1_off64 (i : grid1.Coords) (v342 : BitVec 32) (v348 : BitVec 32) (k1_t16 : Fin (k1_t16_loop i v342 v348).trips) : Fin 2 → Nat :=
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let c256_i32_333 : BitVec 32 := 256#32
  let c0_i32_332 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c0_i32_331 : BitVec 32 := 0#32
  let v692 : BitVec 32 := Scalar.subi v352 c0_i32_331
  let v693 : BitVec 32 := Scalar.maxsi c0_i32_332 v692
  let v694 : BitVec 32 := Scalar.minsi c256_i32_333 v693
  let v1805 : BitVec 32 := Scalar.subi v694 v691
  let c1_i32_1196 : BitVec 32 := 1#32
  let v1807 : BitVec 32 := Scalar.divsi v1805 c1_i32_1196
  let v1808 : BitVec 32 := Scalar.muli v1807 c1_i32_1196
  let v1809 : BitVec 32 := Scalar.addi v691 v1808
  let c1_i32_1198 : BitVec 32 := 1#32
  let arg13 : BitVec 32 := Scf.iv v1809 c1_i32_1198 k1_t16
  let v1836 : Index := Scalar.indexCast arg13
  let c96 : Index := 96#32
  ![v1836.toNat, 96]
def k1_off65 (i : grid1.Coords) (v342 : BitVec 32) (v348 : BitVec 32) (k1_t16 : Fin (k1_t16_loop i v342 v348).trips) : Fin 2 → Nat :=
  let c256_i32_330 : BitVec 32 := 256#32
  let c0_i32_329 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c0_i32_328 : BitVec 32 := 0#32
  let v689 : BitVec 32 := Scalar.subi v346 c0_i32_328
  let v690 : BitVec 32 := Scalar.maxsi c0_i32_329 v689
  let v691 : BitVec 32 := Scalar.minsi c256_i32_330 v690
  let c256_i32_333 : BitVec 32 := 256#32
  let c0_i32_332 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c0_i32_331 : BitVec 32 := 0#32
  let v692 : BitVec 32 := Scalar.subi v352 c0_i32_331
  let v693 : BitVec 32 := Scalar.maxsi c0_i32_332 v692
  let v694 : BitVec 32 := Scalar.minsi c256_i32_333 v693
  let v1805 : BitVec 32 := Scalar.subi v694 v691
  let c1_i32_1196 : BitVec 32 := 1#32
  let v1807 : BitVec 32 := Scalar.divsi v1805 c1_i32_1196
  let v1808 : BitVec 32 := Scalar.muli v1807 c1_i32_1196
  let v1809 : BitVec 32 := Scalar.addi v691 v1808
  let c1_i32_1198 : BitVec 32 := 1#32
  let arg13 : BitVec 32 := Scf.iv v1809 c1_i32_1198 k1_t16
  let v1840 : Index := Scalar.indexCast arg13
  let c112 : Index := 112#32
  ![v1840.toNat, 112]
@[reducible] def k1_t17_loop (i : grid1.Coords) (v354 : BitVec 32) (v359 : BitVec 32) : Scf.Loop 32 :=
  let c256_i32_337 : BitVec 32 := 256#32
  let c0_i32_336 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let c256_i32_340 : BitVec 32 := 256#32
  let c0_i32_339 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c0_i32_338 : BitVec 32 := 0#32
  let v701 : BitVec 32 := Scalar.subi v362 c0_i32_338
  let v702 : BitVec 32 := Scalar.maxsi c0_i32_339 v701
  let v703 : BitVec 32 := Scalar.minsi c256_i32_340 v702
  let v1805 : BitVec 32 := Scalar.subi v703 v700
  let c1_i32_1196 : BitVec 32 := 1#32
  let v1807 : BitVec 32 := Scalar.divsi v1805 c1_i32_1196
  let v1808 : BitVec 32 := Scalar.muli v1807 c1_i32_1196
  let v1809 : BitVec 32 := Scalar.addi v700 v1808
  let c1_i32_1197 : BitVec 32 := 1#32
  ⟨v700, v1809, c1_i32_1197⟩
def k1_cond9 (i : grid1.Coords) (v354 : BitVec 32) (v359 : BitVec 32) : BitVec 1 :=
  let c256_i32_340 : BitVec 32 := 256#32
  let c0_i32_339 : BitVec 32 := 0#32
  let c1024_i32_154 : BitVec 32 := 1024#32
  let c0_i32_153 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v360 : BitVec 32 := Scalar.subi v359 v3
  let v361 : BitVec 32 := Scalar.maxsi c0_i32_153 v360
  let v362 : BitVec 32 := Scalar.minsi c1024_i32_154 v361
  let c0_i32_338 : BitVec 32 := 0#32
  let v701 : BitVec 32 := Scalar.subi v362 c0_i32_338
  let v702 : BitVec 32 := Scalar.maxsi c0_i32_339 v701
  let v703 : BitVec 32 := Scalar.minsi c256_i32_340 v702
  let c256_i32_337 : BitVec 32 := 256#32
  let c0_i32_336 : BitVec 32 := 0#32
  let c1024_i32_152 : BitVec 32 := 1024#32
  let c0_i32_151 : BitVec 32 := 0#32
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let v704 : BitVec 1 := Scalar.cmpi .sgt v703 v700
  let v705 : BitVec 32 := Scalar.extui v704
  let c0_i32_341 : BitVec 32 := 0#32
  let v706 : BitVec 1 := Scalar.cmpi .ne v705 c0_i32_341
  v706

def k1_off66 (i : grid1.Coords) (v354 : BitVec 32) (v359 : BitVec 32) (k1_t17 : Fin (k1_t17_loop i v354 v359).trips) : Fin 2 → Nat :=
  let c256_i32_337 : BitVec 32 := 256#32
  let c0_i32_336 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let c1_i32_1197 : BitVec 32 := 1#32
  let arg13 : BitVec 32 := Scf.iv v700 c1_i32_1197 k1_t17
  let v1828 : Index := Scalar.indexCast arg13
  let c0_1207 : Index := 0#32
  ![v1828.toNat, 0]
def k1_off67 (i : grid1.Coords) (v354 : BitVec 32) (v359 : BitVec 32) (k1_t17 : Fin (k1_t17_loop i v354 v359).trips) : Fin 2 → Nat :=
  let c256_i32_337 : BitVec 32 := 256#32
  let c0_i32_336 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let c1_i32_1197 : BitVec 32 := 1#32
  let arg13 : BitVec 32 := Scf.iv v700 c1_i32_1197 k1_t17
  let v1832 : Index := Scalar.indexCast arg13
  let c16_1208 : Index := 16#32
  ![v1832.toNat, 16]
def k1_off68 (i : grid1.Coords) (v354 : BitVec 32) (v359 : BitVec 32) (k1_t17 : Fin (k1_t17_loop i v354 v359).trips) : Fin 2 → Nat :=
  let c256_i32_337 : BitVec 32 := 256#32
  let c0_i32_336 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let c1_i32_1197 : BitVec 32 := 1#32
  let arg13 : BitVec 32 := Scf.iv v700 c1_i32_1197 k1_t17
  let v1836 : Index := Scalar.indexCast arg13
  let c32_1209 : Index := 32#32
  ![v1836.toNat, 32]
def k1_off69 (i : grid1.Coords) (v354 : BitVec 32) (v359 : BitVec 32) (k1_t17 : Fin (k1_t17_loop i v354 v359).trips) : Fin 2 → Nat :=
  let c256_i32_337 : BitVec 32 := 256#32
  let c0_i32_336 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let c1_i32_1197 : BitVec 32 := 1#32
  let arg13 : BitVec 32 := Scf.iv v700 c1_i32_1197 k1_t17
  let v1840 : Index := Scalar.indexCast arg13
  let c48_1210 : Index := 48#32
  ![v1840.toNat, 48]
@[reducible] def k1_t18_loop (i : grid1.Coords) (v354 : BitVec 32) (v359 : BitVec 32) : Scf.Loop 32 :=
  let c256_i32_337 : BitVec 32 := 256#32
  let c0_i32_336 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let c256_i32_340 : BitVec 32 := 256#32
  let c0_i32_339 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c0_i32_338 : BitVec 32 := 0#32
  let v701 : BitVec 32 := Scalar.subi v362 c0_i32_338
  let v702 : BitVec 32 := Scalar.maxsi c0_i32_339 v701
  let v703 : BitVec 32 := Scalar.minsi c256_i32_340 v702
  let v1805 : BitVec 32 := Scalar.subi v703 v700
  let c1_i32_1196 : BitVec 32 := 1#32
  let v1807 : BitVec 32 := Scalar.divsi v1805 c1_i32_1196
  let v1808 : BitVec 32 := Scalar.muli v1807 c1_i32_1196
  let v1809 : BitVec 32 := Scalar.addi v700 v1808
  let v1806 : BitVec 32 := Scalar.addi v700 v1805
  let c1_i32_1198 : BitVec 32 := 1#32
  ⟨v1809, v1806, c1_i32_1198⟩
def k1_off70 (i : grid1.Coords) (v354 : BitVec 32) (v359 : BitVec 32) (k1_t18 : Fin (k1_t18_loop i v354 v359).trips) : Fin 2 → Nat :=
  let c256_i32_337 : BitVec 32 := 256#32
  let c0_i32_336 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let c256_i32_340 : BitVec 32 := 256#32
  let c0_i32_339 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c0_i32_338 : BitVec 32 := 0#32
  let v701 : BitVec 32 := Scalar.subi v362 c0_i32_338
  let v702 : BitVec 32 := Scalar.maxsi c0_i32_339 v701
  let v703 : BitVec 32 := Scalar.minsi c256_i32_340 v702
  let v1805 : BitVec 32 := Scalar.subi v703 v700
  let c1_i32_1196 : BitVec 32 := 1#32
  let v1807 : BitVec 32 := Scalar.divsi v1805 c1_i32_1196
  let v1808 : BitVec 32 := Scalar.muli v1807 c1_i32_1196
  let v1809 : BitVec 32 := Scalar.addi v700 v1808
  let c1_i32_1198 : BitVec 32 := 1#32
  let arg13 : BitVec 32 := Scf.iv v1809 c1_i32_1198 k1_t18
  let v1828 : Index := Scalar.indexCast arg13
  let c0_1207 : Index := 0#32
  ![v1828.toNat, 0]
def k1_off71 (i : grid1.Coords) (v354 : BitVec 32) (v359 : BitVec 32) (k1_t18 : Fin (k1_t18_loop i v354 v359).trips) : Fin 2 → Nat :=
  let c256_i32_337 : BitVec 32 := 256#32
  let c0_i32_336 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let c256_i32_340 : BitVec 32 := 256#32
  let c0_i32_339 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c0_i32_338 : BitVec 32 := 0#32
  let v701 : BitVec 32 := Scalar.subi v362 c0_i32_338
  let v702 : BitVec 32 := Scalar.maxsi c0_i32_339 v701
  let v703 : BitVec 32 := Scalar.minsi c256_i32_340 v702
  let v1805 : BitVec 32 := Scalar.subi v703 v700
  let c1_i32_1196 : BitVec 32 := 1#32
  let v1807 : BitVec 32 := Scalar.divsi v1805 c1_i32_1196
  let v1808 : BitVec 32 := Scalar.muli v1807 c1_i32_1196
  let v1809 : BitVec 32 := Scalar.addi v700 v1808
  let c1_i32_1198 : BitVec 32 := 1#32
  let arg13 : BitVec 32 := Scf.iv v1809 c1_i32_1198 k1_t18
  let v1832 : Index := Scalar.indexCast arg13
  let c16_1208 : Index := 16#32
  ![v1832.toNat, 16]
def k1_off72 (i : grid1.Coords) (v354 : BitVec 32) (v359 : BitVec 32) (k1_t18 : Fin (k1_t18_loop i v354 v359).trips) : Fin 2 → Nat :=
  let c256_i32_337 : BitVec 32 := 256#32
  let c0_i32_336 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let c256_i32_340 : BitVec 32 := 256#32
  let c0_i32_339 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c0_i32_338 : BitVec 32 := 0#32
  let v701 : BitVec 32 := Scalar.subi v362 c0_i32_338
  let v702 : BitVec 32 := Scalar.maxsi c0_i32_339 v701
  let v703 : BitVec 32 := Scalar.minsi c256_i32_340 v702
  let v1805 : BitVec 32 := Scalar.subi v703 v700
  let c1_i32_1196 : BitVec 32 := 1#32
  let v1807 : BitVec 32 := Scalar.divsi v1805 c1_i32_1196
  let v1808 : BitVec 32 := Scalar.muli v1807 c1_i32_1196
  let v1809 : BitVec 32 := Scalar.addi v700 v1808
  let c1_i32_1198 : BitVec 32 := 1#32
  let arg13 : BitVec 32 := Scf.iv v1809 c1_i32_1198 k1_t18
  let v1836 : Index := Scalar.indexCast arg13
  let c32_1209 : Index := 32#32
  ![v1836.toNat, 32]
def k1_off73 (i : grid1.Coords) (v354 : BitVec 32) (v359 : BitVec 32) (k1_t18 : Fin (k1_t18_loop i v354 v359).trips) : Fin 2 → Nat :=
  let c256_i32_337 : BitVec 32 := 256#32
  let c0_i32_336 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c0_i32_335 : BitVec 32 := 0#32
  let v698 : BitVec 32 := Scalar.subi v357 c0_i32_335
  let v699 : BitVec 32 := Scalar.maxsi c0_i32_336 v698
  let v700 : BitVec 32 := Scalar.minsi c256_i32_337 v699
  let c256_i32_340 : BitVec 32 := 256#32
  let c0_i32_339 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c0_i32_338 : BitVec 32 := 0#32
  let v701 : BitVec 32 := Scalar.subi v362 c0_i32_338
  let v702 : BitVec 32 := Scalar.maxsi c0_i32_339 v701
  let v703 : BitVec 32 := Scalar.minsi c256_i32_340 v702
  let v1805 : BitVec 32 := Scalar.subi v703 v700
  let c1_i32_1196 : BitVec 32 := 1#32
  let v1807 : BitVec 32 := Scalar.divsi v1805 c1_i32_1196
  let v1808 : BitVec 32 := Scalar.muli v1807 c1_i32_1196
  let v1809 : BitVec 32 := Scalar.addi v700 v1808
  let c1_i32_1198 : BitVec 32 := 1#32
  let arg13 : BitVec 32 := Scf.iv v1809 c1_i32_1198 k1_t18
  let v1840 : Index := Scalar.indexCast arg13
  let c48_1210 : Index := 48#32
  ![v1840.toNat, 48]
@[reducible] def k1_t19_loop (i : grid1.Coords) (v364 : BitVec 32) (v370 : BitVec 32) : Scf.Loop 32 :=
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let c256_i32_347 : BitVec 32 := 256#32
  let c0_i32_346 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c0_i32_345 : BitVec 32 := 0#32
  let v710 : BitVec 32 := Scalar.subi v374 c0_i32_345
  let v711 : BitVec 32 := Scalar.maxsi c0_i32_346 v710
  let v712 : BitVec 32 := Scalar.minsi c256_i32_347 v711
  let v1805 : BitVec 32 := Scalar.subi v712 v709
  let c1_i32_1196 : BitVec 32 := 1#32
  let v1807 : BitVec 32 := Scalar.divsi v1805 c1_i32_1196
  let v1808 : BitVec 32 := Scalar.muli v1807 c1_i32_1196
  let v1809 : BitVec 32 := Scalar.addi v709 v1808
  let c1_i32_1197 : BitVec 32 := 1#32
  ⟨v709, v1809, c1_i32_1197⟩
def k1_cond10 (i : grid1.Coords) (v364 : BitVec 32) (v370 : BitVec 32) : BitVec 1 :=
  let c256_i32_347 : BitVec 32 := 256#32
  let c0_i32_346 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v372 : BitVec 32 := Scalar.subi v371 v3
  let v373 : BitVec 32 := Scalar.maxsi c0_i32_159 v372
  let v374 : BitVec 32 := Scalar.minsi c1024_i32_160 v373
  let c0_i32_345 : BitVec 32 := 0#32
  let v710 : BitVec 32 := Scalar.subi v374 c0_i32_345
  let v711 : BitVec 32 := Scalar.maxsi c0_i32_346 v710
  let v712 : BitVec 32 := Scalar.minsi c256_i32_347 v711
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let v713 : BitVec 1 := Scalar.cmpi .sgt v712 v709
  let v714 : BitVec 32 := Scalar.extui v713
  let c0_i32_348 : BitVec 32 := 0#32
  let v715 : BitVec 1 := Scalar.cmpi .ne v714 c0_i32_348
  v715

def k1_off74 (i : grid1.Coords) (v364 : BitVec 32) (v370 : BitVec 32) (k1_t19 : Fin (k1_t19_loop i v364 v370).trips) : Fin 2 → Nat :=
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let c1_i32_1197 : BitVec 32 := 1#32
  let arg13 : BitVec 32 := Scf.iv v709 c1_i32_1197 k1_t19
  let v1828 : Index := Scalar.indexCast arg13
  let c64 : Index := 64#32
  ![v1828.toNat, 64]
def k1_off75 (i : grid1.Coords) (v364 : BitVec 32) (v370 : BitVec 32) (k1_t19 : Fin (k1_t19_loop i v364 v370).trips) : Fin 2 → Nat :=
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let c1_i32_1197 : BitVec 32 := 1#32
  let arg13 : BitVec 32 := Scf.iv v709 c1_i32_1197 k1_t19
  let v1832 : Index := Scalar.indexCast arg13
  let c80 : Index := 80#32
  ![v1832.toNat, 80]
def k1_off76 (i : grid1.Coords) (v364 : BitVec 32) (v370 : BitVec 32) (k1_t19 : Fin (k1_t19_loop i v364 v370).trips) : Fin 2 → Nat :=
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let c1_i32_1197 : BitVec 32 := 1#32
  let arg13 : BitVec 32 := Scf.iv v709 c1_i32_1197 k1_t19
  let v1836 : Index := Scalar.indexCast arg13
  let c96 : Index := 96#32
  ![v1836.toNat, 96]
def k1_off77 (i : grid1.Coords) (v364 : BitVec 32) (v370 : BitVec 32) (k1_t19 : Fin (k1_t19_loop i v364 v370).trips) : Fin 2 → Nat :=
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let c1_i32_1197 : BitVec 32 := 1#32
  let arg13 : BitVec 32 := Scf.iv v709 c1_i32_1197 k1_t19
  let v1840 : Index := Scalar.indexCast arg13
  let c112 : Index := 112#32
  ![v1840.toNat, 112]
@[reducible] def k1_t20_loop (i : grid1.Coords) (v364 : BitVec 32) (v370 : BitVec 32) : Scf.Loop 32 :=
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let c256_i32_347 : BitVec 32 := 256#32
  let c0_i32_346 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c0_i32_345 : BitVec 32 := 0#32
  let v710 : BitVec 32 := Scalar.subi v374 c0_i32_345
  let v711 : BitVec 32 := Scalar.maxsi c0_i32_346 v710
  let v712 : BitVec 32 := Scalar.minsi c256_i32_347 v711
  let v1805 : BitVec 32 := Scalar.subi v712 v709
  let c1_i32_1196 : BitVec 32 := 1#32
  let v1807 : BitVec 32 := Scalar.divsi v1805 c1_i32_1196
  let v1808 : BitVec 32 := Scalar.muli v1807 c1_i32_1196
  let v1809 : BitVec 32 := Scalar.addi v709 v1808
  let v1806 : BitVec 32 := Scalar.addi v709 v1805
  let c1_i32_1198 : BitVec 32 := 1#32
  ⟨v1809, v1806, c1_i32_1198⟩
def k1_off78 (i : grid1.Coords) (v364 : BitVec 32) (v370 : BitVec 32) (k1_t20 : Fin (k1_t20_loop i v364 v370).trips) : Fin 2 → Nat :=
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let c256_i32_347 : BitVec 32 := 256#32
  let c0_i32_346 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c0_i32_345 : BitVec 32 := 0#32
  let v710 : BitVec 32 := Scalar.subi v374 c0_i32_345
  let v711 : BitVec 32 := Scalar.maxsi c0_i32_346 v710
  let v712 : BitVec 32 := Scalar.minsi c256_i32_347 v711
  let v1805 : BitVec 32 := Scalar.subi v712 v709
  let c1_i32_1196 : BitVec 32 := 1#32
  let v1807 : BitVec 32 := Scalar.divsi v1805 c1_i32_1196
  let v1808 : BitVec 32 := Scalar.muli v1807 c1_i32_1196
  let v1809 : BitVec 32 := Scalar.addi v709 v1808
  let c1_i32_1198 : BitVec 32 := 1#32
  let arg13 : BitVec 32 := Scf.iv v1809 c1_i32_1198 k1_t20
  let v1828 : Index := Scalar.indexCast arg13
  let c64 : Index := 64#32
  ![v1828.toNat, 64]
def k1_off79 (i : grid1.Coords) (v364 : BitVec 32) (v370 : BitVec 32) (k1_t20 : Fin (k1_t20_loop i v364 v370).trips) : Fin 2 → Nat :=
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let c256_i32_347 : BitVec 32 := 256#32
  let c0_i32_346 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c0_i32_345 : BitVec 32 := 0#32
  let v710 : BitVec 32 := Scalar.subi v374 c0_i32_345
  let v711 : BitVec 32 := Scalar.maxsi c0_i32_346 v710
  let v712 : BitVec 32 := Scalar.minsi c256_i32_347 v711
  let v1805 : BitVec 32 := Scalar.subi v712 v709
  let c1_i32_1196 : BitVec 32 := 1#32
  let v1807 : BitVec 32 := Scalar.divsi v1805 c1_i32_1196
  let v1808 : BitVec 32 := Scalar.muli v1807 c1_i32_1196
  let v1809 : BitVec 32 := Scalar.addi v709 v1808
  let c1_i32_1198 : BitVec 32 := 1#32
  let arg13 : BitVec 32 := Scf.iv v1809 c1_i32_1198 k1_t20
  let v1832 : Index := Scalar.indexCast arg13
  let c80 : Index := 80#32
  ![v1832.toNat, 80]
def k1_off80 (i : grid1.Coords) (v364 : BitVec 32) (v370 : BitVec 32) (k1_t20 : Fin (k1_t20_loop i v364 v370).trips) : Fin 2 → Nat :=
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let c256_i32_347 : BitVec 32 := 256#32
  let c0_i32_346 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c0_i32_345 : BitVec 32 := 0#32
  let v710 : BitVec 32 := Scalar.subi v374 c0_i32_345
  let v711 : BitVec 32 := Scalar.maxsi c0_i32_346 v710
  let v712 : BitVec 32 := Scalar.minsi c256_i32_347 v711
  let v1805 : BitVec 32 := Scalar.subi v712 v709
  let c1_i32_1196 : BitVec 32 := 1#32
  let v1807 : BitVec 32 := Scalar.divsi v1805 c1_i32_1196
  let v1808 : BitVec 32 := Scalar.muli v1807 c1_i32_1196
  let v1809 : BitVec 32 := Scalar.addi v709 v1808
  let c1_i32_1198 : BitVec 32 := 1#32
  let arg13 : BitVec 32 := Scf.iv v1809 c1_i32_1198 k1_t20
  let v1836 : Index := Scalar.indexCast arg13
  let c96 : Index := 96#32
  ![v1836.toNat, 96]
def k1_off81 (i : grid1.Coords) (v364 : BitVec 32) (v370 : BitVec 32) (k1_t20 : Fin (k1_t20_loop i v364 v370).trips) : Fin 2 → Nat :=
  let c256_i32_344 : BitVec 32 := 256#32
  let c0_i32_343 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c0_i32_342 : BitVec 32 := 0#32
  let v707 : BitVec 32 := Scalar.subi v368 c0_i32_342
  let v708 : BitVec 32 := Scalar.maxsi c0_i32_343 v707
  let v709 : BitVec 32 := Scalar.minsi c256_i32_344 v708
  let c256_i32_347 : BitVec 32 := 256#32
  let c0_i32_346 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c0_i32_345 : BitVec 32 := 0#32
  let v710 : BitVec 32 := Scalar.subi v374 c0_i32_345
  let v711 : BitVec 32 := Scalar.maxsi c0_i32_346 v710
  let v712 : BitVec 32 := Scalar.minsi c256_i32_347 v711
  let v1805 : BitVec 32 := Scalar.subi v712 v709
  let c1_i32_1196 : BitVec 32 := 1#32
  let v1807 : BitVec 32 := Scalar.divsi v1805 c1_i32_1196
  let v1808 : BitVec 32 := Scalar.muli v1807 c1_i32_1196
  let v1809 : BitVec 32 := Scalar.addi v709 v1808
  let c1_i32_1198 : BitVec 32 := 1#32
  let arg13 : BitVec 32 := Scf.iv v1809 c1_i32_1198 k1_t20
  let v1840 : Index := Scalar.indexCast arg13
  let c112 : Index := 112#32
  ![v1840.toNat, 112]
@[reducible] def k1_t21_loop (i : grid1.Coords) (v376 : BitVec 32) (v381 : BitVec 32) : Scf.Loop 32 :=
  let c256_i32_351 : BitVec 32 := 256#32
  let c0_i32_350 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let c256_i32_354 : BitVec 32 := 256#32
  let c0_i32_353 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c0_i32_352 : BitVec 32 := 0#32
  let v719 : BitVec 32 := Scalar.subi v384 c0_i32_352
  let v720 : BitVec 32 := Scalar.maxsi c0_i32_353 v719
  let v721 : BitVec 32 := Scalar.minsi c256_i32_354 v720
  let v1805 : BitVec 32 := Scalar.subi v721 v718
  let c1_i32_1196 : BitVec 32 := 1#32
  let v1807 : BitVec 32 := Scalar.divsi v1805 c1_i32_1196
  let v1808 : BitVec 32 := Scalar.muli v1807 c1_i32_1196
  let v1809 : BitVec 32 := Scalar.addi v718 v1808
  let c1_i32_1197 : BitVec 32 := 1#32
  ⟨v718, v1809, c1_i32_1197⟩
def k1_cond11 (i : grid1.Coords) (v376 : BitVec 32) (v381 : BitVec 32) : BitVec 1 :=
  let c256_i32_354 : BitVec 32 := 256#32
  let c0_i32_353 : BitVec 32 := 0#32
  let c1024_i32_164 : BitVec 32 := 1024#32
  let c0_i32_163 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v382 : BitVec 32 := Scalar.subi v381 v3
  let v383 : BitVec 32 := Scalar.maxsi c0_i32_163 v382
  let v384 : BitVec 32 := Scalar.minsi c1024_i32_164 v383
  let c0_i32_352 : BitVec 32 := 0#32
  let v719 : BitVec 32 := Scalar.subi v384 c0_i32_352
  let v720 : BitVec 32 := Scalar.maxsi c0_i32_353 v719
  let v721 : BitVec 32 := Scalar.minsi c256_i32_354 v720
  let c256_i32_351 : BitVec 32 := 256#32
  let c0_i32_350 : BitVec 32 := 0#32
  let c1024_i32_162 : BitVec 32 := 1024#32
  let c0_i32_161 : BitVec 32 := 0#32
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let v722 : BitVec 1 := Scalar.cmpi .sgt v721 v718
  let v723 : BitVec 32 := Scalar.extui v722
  let c0_i32_355 : BitVec 32 := 0#32
  let v724 : BitVec 1 := Scalar.cmpi .ne v723 c0_i32_355
  v724

def k1_off82 (i : grid1.Coords) (v376 : BitVec 32) (v381 : BitVec 32) (k1_t21 : Fin (k1_t21_loop i v376 v381).trips) : Fin 2 → Nat :=
  let c256_i32_351 : BitVec 32 := 256#32
  let c0_i32_350 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let c1_i32_1197 : BitVec 32 := 1#32
  let arg13 : BitVec 32 := Scf.iv v718 c1_i32_1197 k1_t21
  let v1828 : Index := Scalar.indexCast arg13
  let c0_1207 : Index := 0#32
  ![v1828.toNat, 0]
def k1_off83 (i : grid1.Coords) (v376 : BitVec 32) (v381 : BitVec 32) (k1_t21 : Fin (k1_t21_loop i v376 v381).trips) : Fin 2 → Nat :=
  let c256_i32_351 : BitVec 32 := 256#32
  let c0_i32_350 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let c1_i32_1197 : BitVec 32 := 1#32
  let arg13 : BitVec 32 := Scf.iv v718 c1_i32_1197 k1_t21
  let v1832 : Index := Scalar.indexCast arg13
  let c16_1208 : Index := 16#32
  ![v1832.toNat, 16]
def k1_off84 (i : grid1.Coords) (v376 : BitVec 32) (v381 : BitVec 32) (k1_t21 : Fin (k1_t21_loop i v376 v381).trips) : Fin 2 → Nat :=
  let c256_i32_351 : BitVec 32 := 256#32
  let c0_i32_350 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let c1_i32_1197 : BitVec 32 := 1#32
  let arg13 : BitVec 32 := Scf.iv v718 c1_i32_1197 k1_t21
  let v1836 : Index := Scalar.indexCast arg13
  let c32_1209 : Index := 32#32
  ![v1836.toNat, 32]
def k1_off85 (i : grid1.Coords) (v376 : BitVec 32) (v381 : BitVec 32) (k1_t21 : Fin (k1_t21_loop i v376 v381).trips) : Fin 2 → Nat :=
  let c256_i32_351 : BitVec 32 := 256#32
  let c0_i32_350 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let c1_i32_1197 : BitVec 32 := 1#32
  let arg13 : BitVec 32 := Scf.iv v718 c1_i32_1197 k1_t21
  let v1840 : Index := Scalar.indexCast arg13
  let c48_1210 : Index := 48#32
  ![v1840.toNat, 48]
@[reducible] def k1_t22_loop (i : grid1.Coords) (v376 : BitVec 32) (v381 : BitVec 32) : Scf.Loop 32 :=
  let c256_i32_351 : BitVec 32 := 256#32
  let c0_i32_350 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let c256_i32_354 : BitVec 32 := 256#32
  let c0_i32_353 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c0_i32_352 : BitVec 32 := 0#32
  let v719 : BitVec 32 := Scalar.subi v384 c0_i32_352
  let v720 : BitVec 32 := Scalar.maxsi c0_i32_353 v719
  let v721 : BitVec 32 := Scalar.minsi c256_i32_354 v720
  let v1805 : BitVec 32 := Scalar.subi v721 v718
  let c1_i32_1196 : BitVec 32 := 1#32
  let v1807 : BitVec 32 := Scalar.divsi v1805 c1_i32_1196
  let v1808 : BitVec 32 := Scalar.muli v1807 c1_i32_1196
  let v1809 : BitVec 32 := Scalar.addi v718 v1808
  let v1806 : BitVec 32 := Scalar.addi v718 v1805
  let c1_i32_1198 : BitVec 32 := 1#32
  ⟨v1809, v1806, c1_i32_1198⟩
def k1_off86 (i : grid1.Coords) (v376 : BitVec 32) (v381 : BitVec 32) (k1_t22 : Fin (k1_t22_loop i v376 v381).trips) : Fin 2 → Nat :=
  let c256_i32_351 : BitVec 32 := 256#32
  let c0_i32_350 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let c256_i32_354 : BitVec 32 := 256#32
  let c0_i32_353 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c0_i32_352 : BitVec 32 := 0#32
  let v719 : BitVec 32 := Scalar.subi v384 c0_i32_352
  let v720 : BitVec 32 := Scalar.maxsi c0_i32_353 v719
  let v721 : BitVec 32 := Scalar.minsi c256_i32_354 v720
  let v1805 : BitVec 32 := Scalar.subi v721 v718
  let c1_i32_1196 : BitVec 32 := 1#32
  let v1807 : BitVec 32 := Scalar.divsi v1805 c1_i32_1196
  let v1808 : BitVec 32 := Scalar.muli v1807 c1_i32_1196
  let v1809 : BitVec 32 := Scalar.addi v718 v1808
  let c1_i32_1198 : BitVec 32 := 1#32
  let arg13 : BitVec 32 := Scf.iv v1809 c1_i32_1198 k1_t22
  let v1828 : Index := Scalar.indexCast arg13
  let c0_1207 : Index := 0#32
  ![v1828.toNat, 0]
def k1_off87 (i : grid1.Coords) (v376 : BitVec 32) (v381 : BitVec 32) (k1_t22 : Fin (k1_t22_loop i v376 v381).trips) : Fin 2 → Nat :=
  let c256_i32_351 : BitVec 32 := 256#32
  let c0_i32_350 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let c256_i32_354 : BitVec 32 := 256#32
  let c0_i32_353 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c0_i32_352 : BitVec 32 := 0#32
  let v719 : BitVec 32 := Scalar.subi v384 c0_i32_352
  let v720 : BitVec 32 := Scalar.maxsi c0_i32_353 v719
  let v721 : BitVec 32 := Scalar.minsi c256_i32_354 v720
  let v1805 : BitVec 32 := Scalar.subi v721 v718
  let c1_i32_1196 : BitVec 32 := 1#32
  let v1807 : BitVec 32 := Scalar.divsi v1805 c1_i32_1196
  let v1808 : BitVec 32 := Scalar.muli v1807 c1_i32_1196
  let v1809 : BitVec 32 := Scalar.addi v718 v1808
  let c1_i32_1198 : BitVec 32 := 1#32
  let arg13 : BitVec 32 := Scf.iv v1809 c1_i32_1198 k1_t22
  let v1832 : Index := Scalar.indexCast arg13
  let c16_1208 : Index := 16#32
  ![v1832.toNat, 16]
def k1_off88 (i : grid1.Coords) (v376 : BitVec 32) (v381 : BitVec 32) (k1_t22 : Fin (k1_t22_loop i v376 v381).trips) : Fin 2 → Nat :=
  let c256_i32_351 : BitVec 32 := 256#32
  let c0_i32_350 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let c256_i32_354 : BitVec 32 := 256#32
  let c0_i32_353 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c0_i32_352 : BitVec 32 := 0#32
  let v719 : BitVec 32 := Scalar.subi v384 c0_i32_352
  let v720 : BitVec 32 := Scalar.maxsi c0_i32_353 v719
  let v721 : BitVec 32 := Scalar.minsi c256_i32_354 v720
  let v1805 : BitVec 32 := Scalar.subi v721 v718
  let c1_i32_1196 : BitVec 32 := 1#32
  let v1807 : BitVec 32 := Scalar.divsi v1805 c1_i32_1196
  let v1808 : BitVec 32 := Scalar.muli v1807 c1_i32_1196
  let v1809 : BitVec 32 := Scalar.addi v718 v1808
  let c1_i32_1198 : BitVec 32 := 1#32
  let arg13 : BitVec 32 := Scf.iv v1809 c1_i32_1198 k1_t22
  let v1836 : Index := Scalar.indexCast arg13
  let c32_1209 : Index := 32#32
  ![v1836.toNat, 32]
def k1_off89 (i : grid1.Coords) (v376 : BitVec 32) (v381 : BitVec 32) (k1_t22 : Fin (k1_t22_loop i v376 v381).trips) : Fin 2 → Nat :=
  let c256_i32_351 : BitVec 32 := 256#32
  let c0_i32_350 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c0_i32_349 : BitVec 32 := 0#32
  let v716 : BitVec 32 := Scalar.subi v379 c0_i32_349
  let v717 : BitVec 32 := Scalar.maxsi c0_i32_350 v716
  let v718 : BitVec 32 := Scalar.minsi c256_i32_351 v717
  let c256_i32_354 : BitVec 32 := 256#32
  let c0_i32_353 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c0_i32_352 : BitVec 32 := 0#32
  let v719 : BitVec 32 := Scalar.subi v384 c0_i32_352
  let v720 : BitVec 32 := Scalar.maxsi c0_i32_353 v719
  let v721 : BitVec 32 := Scalar.minsi c256_i32_354 v720
  let v1805 : BitVec 32 := Scalar.subi v721 v718
  let c1_i32_1196 : BitVec 32 := 1#32
  let v1807 : BitVec 32 := Scalar.divsi v1805 c1_i32_1196
  let v1808 : BitVec 32 := Scalar.muli v1807 c1_i32_1196
  let v1809 : BitVec 32 := Scalar.addi v718 v1808
  let c1_i32_1198 : BitVec 32 := 1#32
  let arg13 : BitVec 32 := Scf.iv v1809 c1_i32_1198 k1_t22
  let v1840 : Index := Scalar.indexCast arg13
  let c48_1210 : Index := 48#32
  ![v1840.toNat, 48]
@[reducible] def k1_t23_loop (i : grid1.Coords) (v386 : BitVec 32) (v392 : BitVec 32) : Scf.Loop 32 :=
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let c256_i32_361 : BitVec 32 := 256#32
  let c0_i32_360 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c0_i32_359 : BitVec 32 := 0#32
  let v728 : BitVec 32 := Scalar.subi v396 c0_i32_359
  let v729 : BitVec 32 := Scalar.maxsi c0_i32_360 v728
  let v730 : BitVec 32 := Scalar.minsi c256_i32_361 v729
  let v1805 : BitVec 32 := Scalar.subi v730 v727
  let c1_i32_1196 : BitVec 32 := 1#32
  let v1807 : BitVec 32 := Scalar.divsi v1805 c1_i32_1196
  let v1808 : BitVec 32 := Scalar.muli v1807 c1_i32_1196
  let v1809 : BitVec 32 := Scalar.addi v727 v1808
  let c1_i32_1197 : BitVec 32 := 1#32
  ⟨v727, v1809, c1_i32_1197⟩
def k1_cond12 (i : grid1.Coords) (v386 : BitVec 32) (v392 : BitVec 32) : BitVec 1 :=
  let c256_i32_361 : BitVec 32 := 256#32
  let c0_i32_360 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v394 : BitVec 32 := Scalar.subi v393 v3
  let v395 : BitVec 32 := Scalar.maxsi c0_i32_169 v394
  let v396 : BitVec 32 := Scalar.minsi c1024_i32_170 v395
  let c0_i32_359 : BitVec 32 := 0#32
  let v728 : BitVec 32 := Scalar.subi v396 c0_i32_359
  let v729 : BitVec 32 := Scalar.maxsi c0_i32_360 v728
  let v730 : BitVec 32 := Scalar.minsi c256_i32_361 v729
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let v731 : BitVec 1 := Scalar.cmpi .sgt v730 v727
  let v732 : BitVec 32 := Scalar.extui v731
  let c0_i32_362 : BitVec 32 := 0#32
  let v733 : BitVec 1 := Scalar.cmpi .ne v732 c0_i32_362
  v733

def k1_off90 (i : grid1.Coords) (v386 : BitVec 32) (v392 : BitVec 32) (k1_t23 : Fin (k1_t23_loop i v386 v392).trips) : Fin 2 → Nat :=
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let c1_i32_1197 : BitVec 32 := 1#32
  let arg13 : BitVec 32 := Scf.iv v727 c1_i32_1197 k1_t23
  let v1828 : Index := Scalar.indexCast arg13
  let c64 : Index := 64#32
  ![v1828.toNat, 64]
def k1_off91 (i : grid1.Coords) (v386 : BitVec 32) (v392 : BitVec 32) (k1_t23 : Fin (k1_t23_loop i v386 v392).trips) : Fin 2 → Nat :=
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let c1_i32_1197 : BitVec 32 := 1#32
  let arg13 : BitVec 32 := Scf.iv v727 c1_i32_1197 k1_t23
  let v1832 : Index := Scalar.indexCast arg13
  let c80 : Index := 80#32
  ![v1832.toNat, 80]
def k1_off92 (i : grid1.Coords) (v386 : BitVec 32) (v392 : BitVec 32) (k1_t23 : Fin (k1_t23_loop i v386 v392).trips) : Fin 2 → Nat :=
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let c1_i32_1197 : BitVec 32 := 1#32
  let arg13 : BitVec 32 := Scf.iv v727 c1_i32_1197 k1_t23
  let v1836 : Index := Scalar.indexCast arg13
  let c96 : Index := 96#32
  ![v1836.toNat, 96]
def k1_off93 (i : grid1.Coords) (v386 : BitVec 32) (v392 : BitVec 32) (k1_t23 : Fin (k1_t23_loop i v386 v392).trips) : Fin 2 → Nat :=
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let c1_i32_1197 : BitVec 32 := 1#32
  let arg13 : BitVec 32 := Scf.iv v727 c1_i32_1197 k1_t23
  let v1840 : Index := Scalar.indexCast arg13
  let c112 : Index := 112#32
  ![v1840.toNat, 112]
@[reducible] def k1_t24_loop (i : grid1.Coords) (v386 : BitVec 32) (v392 : BitVec 32) : Scf.Loop 32 :=
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let c256_i32_361 : BitVec 32 := 256#32
  let c0_i32_360 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c0_i32_359 : BitVec 32 := 0#32
  let v728 : BitVec 32 := Scalar.subi v396 c0_i32_359
  let v729 : BitVec 32 := Scalar.maxsi c0_i32_360 v728
  let v730 : BitVec 32 := Scalar.minsi c256_i32_361 v729
  let v1805 : BitVec 32 := Scalar.subi v730 v727
  let c1_i32_1196 : BitVec 32 := 1#32
  let v1807 : BitVec 32 := Scalar.divsi v1805 c1_i32_1196
  let v1808 : BitVec 32 := Scalar.muli v1807 c1_i32_1196
  let v1809 : BitVec 32 := Scalar.addi v727 v1808
  let v1806 : BitVec 32 := Scalar.addi v727 v1805
  let c1_i32_1198 : BitVec 32 := 1#32
  ⟨v1809, v1806, c1_i32_1198⟩
def k1_off94 (i : grid1.Coords) (v386 : BitVec 32) (v392 : BitVec 32) (k1_t24 : Fin (k1_t24_loop i v386 v392).trips) : Fin 2 → Nat :=
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let c256_i32_361 : BitVec 32 := 256#32
  let c0_i32_360 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c0_i32_359 : BitVec 32 := 0#32
  let v728 : BitVec 32 := Scalar.subi v396 c0_i32_359
  let v729 : BitVec 32 := Scalar.maxsi c0_i32_360 v728
  let v730 : BitVec 32 := Scalar.minsi c256_i32_361 v729
  let v1805 : BitVec 32 := Scalar.subi v730 v727
  let c1_i32_1196 : BitVec 32 := 1#32
  let v1807 : BitVec 32 := Scalar.divsi v1805 c1_i32_1196
  let v1808 : BitVec 32 := Scalar.muli v1807 c1_i32_1196
  let v1809 : BitVec 32 := Scalar.addi v727 v1808
  let c1_i32_1198 : BitVec 32 := 1#32
  let arg13 : BitVec 32 := Scf.iv v1809 c1_i32_1198 k1_t24
  let v1828 : Index := Scalar.indexCast arg13
  let c64 : Index := 64#32
  ![v1828.toNat, 64]
def k1_off95 (i : grid1.Coords) (v386 : BitVec 32) (v392 : BitVec 32) (k1_t24 : Fin (k1_t24_loop i v386 v392).trips) : Fin 2 → Nat :=
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let c256_i32_361 : BitVec 32 := 256#32
  let c0_i32_360 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c0_i32_359 : BitVec 32 := 0#32
  let v728 : BitVec 32 := Scalar.subi v396 c0_i32_359
  let v729 : BitVec 32 := Scalar.maxsi c0_i32_360 v728
  let v730 : BitVec 32 := Scalar.minsi c256_i32_361 v729
  let v1805 : BitVec 32 := Scalar.subi v730 v727
  let c1_i32_1196 : BitVec 32 := 1#32
  let v1807 : BitVec 32 := Scalar.divsi v1805 c1_i32_1196
  let v1808 : BitVec 32 := Scalar.muli v1807 c1_i32_1196
  let v1809 : BitVec 32 := Scalar.addi v727 v1808
  let c1_i32_1198 : BitVec 32 := 1#32
  let arg13 : BitVec 32 := Scf.iv v1809 c1_i32_1198 k1_t24
  let v1832 : Index := Scalar.indexCast arg13
  let c80 : Index := 80#32
  ![v1832.toNat, 80]
def k1_off96 (i : grid1.Coords) (v386 : BitVec 32) (v392 : BitVec 32) (k1_t24 : Fin (k1_t24_loop i v386 v392).trips) : Fin 2 → Nat :=
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let c256_i32_361 : BitVec 32 := 256#32
  let c0_i32_360 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c0_i32_359 : BitVec 32 := 0#32
  let v728 : BitVec 32 := Scalar.subi v396 c0_i32_359
  let v729 : BitVec 32 := Scalar.maxsi c0_i32_360 v728
  let v730 : BitVec 32 := Scalar.minsi c256_i32_361 v729
  let v1805 : BitVec 32 := Scalar.subi v730 v727
  let c1_i32_1196 : BitVec 32 := 1#32
  let v1807 : BitVec 32 := Scalar.divsi v1805 c1_i32_1196
  let v1808 : BitVec 32 := Scalar.muli v1807 c1_i32_1196
  let v1809 : BitVec 32 := Scalar.addi v727 v1808
  let c1_i32_1198 : BitVec 32 := 1#32
  let arg13 : BitVec 32 := Scf.iv v1809 c1_i32_1198 k1_t24
  let v1836 : Index := Scalar.indexCast arg13
  let c96 : Index := 96#32
  ![v1836.toNat, 96]
def k1_off97 (i : grid1.Coords) (v386 : BitVec 32) (v392 : BitVec 32) (k1_t24 : Fin (k1_t24_loop i v386 v392).trips) : Fin 2 → Nat :=
  let c256_i32_358 : BitVec 32 := 256#32
  let c0_i32_357 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c0_i32_356 : BitVec 32 := 0#32
  let v725 : BitVec 32 := Scalar.subi v390 c0_i32_356
  let v726 : BitVec 32 := Scalar.maxsi c0_i32_357 v725
  let v727 : BitVec 32 := Scalar.minsi c256_i32_358 v726
  let c256_i32_361 : BitVec 32 := 256#32
  let c0_i32_360 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c0_i32_359 : BitVec 32 := 0#32
  let v728 : BitVec 32 := Scalar.subi v396 c0_i32_359
  let v729 : BitVec 32 := Scalar.maxsi c0_i32_360 v728
  let v730 : BitVec 32 := Scalar.minsi c256_i32_361 v729
  let v1805 : BitVec 32 := Scalar.subi v730 v727
  let c1_i32_1196 : BitVec 32 := 1#32
  let v1807 : BitVec 32 := Scalar.divsi v1805 c1_i32_1196
  let v1808 : BitVec 32 := Scalar.muli v1807 c1_i32_1196
  let v1809 : BitVec 32 := Scalar.addi v727 v1808
  let c1_i32_1198 : BitVec 32 := 1#32
  let arg13 : BitVec 32 := Scf.iv v1809 c1_i32_1198 k1_t24
  let v1840 : Index := Scalar.indexCast arg13
  let c112 : Index := 112#32
  ![v1840.toNat, 112]
@[reducible] def k1_t25_loop (i : grid1.Coords) (v398 : BitVec 32) (v403 : BitVec 32) : Scf.Loop 32 :=
  let c256_i32_365 : BitVec 32 := 256#32
  let c0_i32_364 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let c256_i32_368 : BitVec 32 := 256#32
  let c0_i32_367 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c0_i32_366 : BitVec 32 := 0#32
  let v737 : BitVec 32 := Scalar.subi v406 c0_i32_366
  let v738 : BitVec 32 := Scalar.maxsi c0_i32_367 v737
  let v739 : BitVec 32 := Scalar.minsi c256_i32_368 v738
  let v1805 : BitVec 32 := Scalar.subi v739 v736
  let c1_i32_1196 : BitVec 32 := 1#32
  let v1807 : BitVec 32 := Scalar.divsi v1805 c1_i32_1196
  let v1808 : BitVec 32 := Scalar.muli v1807 c1_i32_1196
  let v1809 : BitVec 32 := Scalar.addi v736 v1808
  let c1_i32_1197 : BitVec 32 := 1#32
  ⟨v736, v1809, c1_i32_1197⟩
def k1_cond13 (i : grid1.Coords) (v398 : BitVec 32) (v403 : BitVec 32) : BitVec 1 :=
  let c256_i32_368 : BitVec 32 := 256#32
  let c0_i32_367 : BitVec 32 := 0#32
  let c1024_i32_174 : BitVec 32 := 1024#32
  let c0_i32_173 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v404 : BitVec 32 := Scalar.subi v403 v3
  let v405 : BitVec 32 := Scalar.maxsi c0_i32_173 v404
  let v406 : BitVec 32 := Scalar.minsi c1024_i32_174 v405
  let c0_i32_366 : BitVec 32 := 0#32
  let v737 : BitVec 32 := Scalar.subi v406 c0_i32_366
  let v738 : BitVec 32 := Scalar.maxsi c0_i32_367 v737
  let v739 : BitVec 32 := Scalar.minsi c256_i32_368 v738
  let c256_i32_365 : BitVec 32 := 256#32
  let c0_i32_364 : BitVec 32 := 0#32
  let c1024_i32_172 : BitVec 32 := 1024#32
  let c0_i32_171 : BitVec 32 := 0#32
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let v740 : BitVec 1 := Scalar.cmpi .sgt v739 v736
  let v741 : BitVec 32 := Scalar.extui v740
  let c0_i32_369 : BitVec 32 := 0#32
  let v742 : BitVec 1 := Scalar.cmpi .ne v741 c0_i32_369
  v742

def k1_off98 (i : grid1.Coords) (v398 : BitVec 32) (v403 : BitVec 32) (k1_t25 : Fin (k1_t25_loop i v398 v403).trips) : Fin 2 → Nat :=
  let c256_i32_365 : BitVec 32 := 256#32
  let c0_i32_364 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let c1_i32_1197 : BitVec 32 := 1#32
  let arg13 : BitVec 32 := Scf.iv v736 c1_i32_1197 k1_t25
  let v1828 : Index := Scalar.indexCast arg13
  let c0_1207 : Index := 0#32
  ![v1828.toNat, 0]
def k1_off99 (i : grid1.Coords) (v398 : BitVec 32) (v403 : BitVec 32) (k1_t25 : Fin (k1_t25_loop i v398 v403).trips) : Fin 2 → Nat :=
  let c256_i32_365 : BitVec 32 := 256#32
  let c0_i32_364 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let c1_i32_1197 : BitVec 32 := 1#32
  let arg13 : BitVec 32 := Scf.iv v736 c1_i32_1197 k1_t25
  let v1832 : Index := Scalar.indexCast arg13
  let c16_1208 : Index := 16#32
  ![v1832.toNat, 16]
def k1_off100 (i : grid1.Coords) (v398 : BitVec 32) (v403 : BitVec 32) (k1_t25 : Fin (k1_t25_loop i v398 v403).trips) : Fin 2 → Nat :=
  let c256_i32_365 : BitVec 32 := 256#32
  let c0_i32_364 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let c1_i32_1197 : BitVec 32 := 1#32
  let arg13 : BitVec 32 := Scf.iv v736 c1_i32_1197 k1_t25
  let v1836 : Index := Scalar.indexCast arg13
  let c32_1209 : Index := 32#32
  ![v1836.toNat, 32]
def k1_off101 (i : grid1.Coords) (v398 : BitVec 32) (v403 : BitVec 32) (k1_t25 : Fin (k1_t25_loop i v398 v403).trips) : Fin 2 → Nat :=
  let c256_i32_365 : BitVec 32 := 256#32
  let c0_i32_364 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let c1_i32_1197 : BitVec 32 := 1#32
  let arg13 : BitVec 32 := Scf.iv v736 c1_i32_1197 k1_t25
  let v1840 : Index := Scalar.indexCast arg13
  let c48_1210 : Index := 48#32
  ![v1840.toNat, 48]
@[reducible] def k1_t26_loop (i : grid1.Coords) (v398 : BitVec 32) (v403 : BitVec 32) : Scf.Loop 32 :=
  let c256_i32_365 : BitVec 32 := 256#32
  let c0_i32_364 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let c256_i32_368 : BitVec 32 := 256#32
  let c0_i32_367 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c0_i32_366 : BitVec 32 := 0#32
  let v737 : BitVec 32 := Scalar.subi v406 c0_i32_366
  let v738 : BitVec 32 := Scalar.maxsi c0_i32_367 v737
  let v739 : BitVec 32 := Scalar.minsi c256_i32_368 v738
  let v1805 : BitVec 32 := Scalar.subi v739 v736
  let c1_i32_1196 : BitVec 32 := 1#32
  let v1807 : BitVec 32 := Scalar.divsi v1805 c1_i32_1196
  let v1808 : BitVec 32 := Scalar.muli v1807 c1_i32_1196
  let v1809 : BitVec 32 := Scalar.addi v736 v1808
  let v1806 : BitVec 32 := Scalar.addi v736 v1805
  let c1_i32_1198 : BitVec 32 := 1#32
  ⟨v1809, v1806, c1_i32_1198⟩
def k1_off102 (i : grid1.Coords) (v398 : BitVec 32) (v403 : BitVec 32) (k1_t26 : Fin (k1_t26_loop i v398 v403).trips) : Fin 2 → Nat :=
  let c256_i32_365 : BitVec 32 := 256#32
  let c0_i32_364 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let c256_i32_368 : BitVec 32 := 256#32
  let c0_i32_367 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c0_i32_366 : BitVec 32 := 0#32
  let v737 : BitVec 32 := Scalar.subi v406 c0_i32_366
  let v738 : BitVec 32 := Scalar.maxsi c0_i32_367 v737
  let v739 : BitVec 32 := Scalar.minsi c256_i32_368 v738
  let v1805 : BitVec 32 := Scalar.subi v739 v736
  let c1_i32_1196 : BitVec 32 := 1#32
  let v1807 : BitVec 32 := Scalar.divsi v1805 c1_i32_1196
  let v1808 : BitVec 32 := Scalar.muli v1807 c1_i32_1196
  let v1809 : BitVec 32 := Scalar.addi v736 v1808
  let c1_i32_1198 : BitVec 32 := 1#32
  let arg13 : BitVec 32 := Scf.iv v1809 c1_i32_1198 k1_t26
  let v1828 : Index := Scalar.indexCast arg13
  let c0_1207 : Index := 0#32
  ![v1828.toNat, 0]
def k1_off103 (i : grid1.Coords) (v398 : BitVec 32) (v403 : BitVec 32) (k1_t26 : Fin (k1_t26_loop i v398 v403).trips) : Fin 2 → Nat :=
  let c256_i32_365 : BitVec 32 := 256#32
  let c0_i32_364 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let c256_i32_368 : BitVec 32 := 256#32
  let c0_i32_367 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c0_i32_366 : BitVec 32 := 0#32
  let v737 : BitVec 32 := Scalar.subi v406 c0_i32_366
  let v738 : BitVec 32 := Scalar.maxsi c0_i32_367 v737
  let v739 : BitVec 32 := Scalar.minsi c256_i32_368 v738
  let v1805 : BitVec 32 := Scalar.subi v739 v736
  let c1_i32_1196 : BitVec 32 := 1#32
  let v1807 : BitVec 32 := Scalar.divsi v1805 c1_i32_1196
  let v1808 : BitVec 32 := Scalar.muli v1807 c1_i32_1196
  let v1809 : BitVec 32 := Scalar.addi v736 v1808
  let c1_i32_1198 : BitVec 32 := 1#32
  let arg13 : BitVec 32 := Scf.iv v1809 c1_i32_1198 k1_t26
  let v1832 : Index := Scalar.indexCast arg13
  let c16_1208 : Index := 16#32
  ![v1832.toNat, 16]
def k1_off104 (i : grid1.Coords) (v398 : BitVec 32) (v403 : BitVec 32) (k1_t26 : Fin (k1_t26_loop i v398 v403).trips) : Fin 2 → Nat :=
  let c256_i32_365 : BitVec 32 := 256#32
  let c0_i32_364 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let c256_i32_368 : BitVec 32 := 256#32
  let c0_i32_367 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c0_i32_366 : BitVec 32 := 0#32
  let v737 : BitVec 32 := Scalar.subi v406 c0_i32_366
  let v738 : BitVec 32 := Scalar.maxsi c0_i32_367 v737
  let v739 : BitVec 32 := Scalar.minsi c256_i32_368 v738
  let v1805 : BitVec 32 := Scalar.subi v739 v736
  let c1_i32_1196 : BitVec 32 := 1#32
  let v1807 : BitVec 32 := Scalar.divsi v1805 c1_i32_1196
  let v1808 : BitVec 32 := Scalar.muli v1807 c1_i32_1196
  let v1809 : BitVec 32 := Scalar.addi v736 v1808
  let c1_i32_1198 : BitVec 32 := 1#32
  let arg13 : BitVec 32 := Scf.iv v1809 c1_i32_1198 k1_t26
  let v1836 : Index := Scalar.indexCast arg13
  let c32_1209 : Index := 32#32
  ![v1836.toNat, 32]
def k1_off105 (i : grid1.Coords) (v398 : BitVec 32) (v403 : BitVec 32) (k1_t26 : Fin (k1_t26_loop i v398 v403).trips) : Fin 2 → Nat :=
  let c256_i32_365 : BitVec 32 := 256#32
  let c0_i32_364 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c0_i32_363 : BitVec 32 := 0#32
  let v734 : BitVec 32 := Scalar.subi v401 c0_i32_363
  let v735 : BitVec 32 := Scalar.maxsi c0_i32_364 v734
  let v736 : BitVec 32 := Scalar.minsi c256_i32_365 v735
  let c256_i32_368 : BitVec 32 := 256#32
  let c0_i32_367 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c0_i32_366 : BitVec 32 := 0#32
  let v737 : BitVec 32 := Scalar.subi v406 c0_i32_366
  let v738 : BitVec 32 := Scalar.maxsi c0_i32_367 v737
  let v739 : BitVec 32 := Scalar.minsi c256_i32_368 v738
  let v1805 : BitVec 32 := Scalar.subi v739 v736
  let c1_i32_1196 : BitVec 32 := 1#32
  let v1807 : BitVec 32 := Scalar.divsi v1805 c1_i32_1196
  let v1808 : BitVec 32 := Scalar.muli v1807 c1_i32_1196
  let v1809 : BitVec 32 := Scalar.addi v736 v1808
  let c1_i32_1198 : BitVec 32 := 1#32
  let arg13 : BitVec 32 := Scf.iv v1809 c1_i32_1198 k1_t26
  let v1840 : Index := Scalar.indexCast arg13
  let c48_1210 : Index := 48#32
  ![v1840.toNat, 48]
@[reducible] def k1_t27_loop (i : grid1.Coords) (v408 : BitVec 32) (v414 : BitVec 32) : Scf.Loop 32 :=
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let c256_i32_375 : BitVec 32 := 256#32
  let c0_i32_374 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c0_i32_373 : BitVec 32 := 0#32
  let v746 : BitVec 32 := Scalar.subi v418 c0_i32_373
  let v747 : BitVec 32 := Scalar.maxsi c0_i32_374 v746
  let v748 : BitVec 32 := Scalar.minsi c256_i32_375 v747
  let v1805 : BitVec 32 := Scalar.subi v748 v745
  let c1_i32_1196 : BitVec 32 := 1#32
  let v1807 : BitVec 32 := Scalar.divsi v1805 c1_i32_1196
  let v1808 : BitVec 32 := Scalar.muli v1807 c1_i32_1196
  let v1809 : BitVec 32 := Scalar.addi v745 v1808
  let c1_i32_1197 : BitVec 32 := 1#32
  ⟨v745, v1809, c1_i32_1197⟩
def k1_cond14 (i : grid1.Coords) (v408 : BitVec 32) (v414 : BitVec 32) : BitVec 1 :=
  let c256_i32_375 : BitVec 32 := 256#32
  let c0_i32_374 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v416 : BitVec 32 := Scalar.subi v415 v3
  let v417 : BitVec 32 := Scalar.maxsi c0_i32_179 v416
  let v418 : BitVec 32 := Scalar.minsi c1024_i32_180 v417
  let c0_i32_373 : BitVec 32 := 0#32
  let v746 : BitVec 32 := Scalar.subi v418 c0_i32_373
  let v747 : BitVec 32 := Scalar.maxsi c0_i32_374 v746
  let v748 : BitVec 32 := Scalar.minsi c256_i32_375 v747
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let v749 : BitVec 1 := Scalar.cmpi .sgt v748 v745
  let v750 : BitVec 32 := Scalar.extui v749
  let c0_i32_376 : BitVec 32 := 0#32
  let v751 : BitVec 1 := Scalar.cmpi .ne v750 c0_i32_376
  v751

def k1_off106 (i : grid1.Coords) (v408 : BitVec 32) (v414 : BitVec 32) (k1_t27 : Fin (k1_t27_loop i v408 v414).trips) : Fin 2 → Nat :=
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let c1_i32_1197 : BitVec 32 := 1#32
  let arg13 : BitVec 32 := Scf.iv v745 c1_i32_1197 k1_t27
  let v1828 : Index := Scalar.indexCast arg13
  let c64 : Index := 64#32
  ![v1828.toNat, 64]
def k1_off107 (i : grid1.Coords) (v408 : BitVec 32) (v414 : BitVec 32) (k1_t27 : Fin (k1_t27_loop i v408 v414).trips) : Fin 2 → Nat :=
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let c1_i32_1197 : BitVec 32 := 1#32
  let arg13 : BitVec 32 := Scf.iv v745 c1_i32_1197 k1_t27
  let v1832 : Index := Scalar.indexCast arg13
  let c80 : Index := 80#32
  ![v1832.toNat, 80]
def k1_off108 (i : grid1.Coords) (v408 : BitVec 32) (v414 : BitVec 32) (k1_t27 : Fin (k1_t27_loop i v408 v414).trips) : Fin 2 → Nat :=
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let c1_i32_1197 : BitVec 32 := 1#32
  let arg13 : BitVec 32 := Scf.iv v745 c1_i32_1197 k1_t27
  let v1836 : Index := Scalar.indexCast arg13
  let c96 : Index := 96#32
  ![v1836.toNat, 96]
def k1_off109 (i : grid1.Coords) (v408 : BitVec 32) (v414 : BitVec 32) (k1_t27 : Fin (k1_t27_loop i v408 v414).trips) : Fin 2 → Nat :=
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let c1_i32_1197 : BitVec 32 := 1#32
  let arg13 : BitVec 32 := Scf.iv v745 c1_i32_1197 k1_t27
  let v1840 : Index := Scalar.indexCast arg13
  let c112 : Index := 112#32
  ![v1840.toNat, 112]
@[reducible] def k1_t28_loop (i : grid1.Coords) (v408 : BitVec 32) (v414 : BitVec 32) : Scf.Loop 32 :=
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let c256_i32_375 : BitVec 32 := 256#32
  let c0_i32_374 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c0_i32_373 : BitVec 32 := 0#32
  let v746 : BitVec 32 := Scalar.subi v418 c0_i32_373
  let v747 : BitVec 32 := Scalar.maxsi c0_i32_374 v746
  let v748 : BitVec 32 := Scalar.minsi c256_i32_375 v747
  let v1805 : BitVec 32 := Scalar.subi v748 v745
  let c1_i32_1196 : BitVec 32 := 1#32
  let v1807 : BitVec 32 := Scalar.divsi v1805 c1_i32_1196
  let v1808 : BitVec 32 := Scalar.muli v1807 c1_i32_1196
  let v1809 : BitVec 32 := Scalar.addi v745 v1808
  let v1806 : BitVec 32 := Scalar.addi v745 v1805
  let c1_i32_1198 : BitVec 32 := 1#32
  ⟨v1809, v1806, c1_i32_1198⟩
def k1_off110 (i : grid1.Coords) (v408 : BitVec 32) (v414 : BitVec 32) (k1_t28 : Fin (k1_t28_loop i v408 v414).trips) : Fin 2 → Nat :=
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let c256_i32_375 : BitVec 32 := 256#32
  let c0_i32_374 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c0_i32_373 : BitVec 32 := 0#32
  let v746 : BitVec 32 := Scalar.subi v418 c0_i32_373
  let v747 : BitVec 32 := Scalar.maxsi c0_i32_374 v746
  let v748 : BitVec 32 := Scalar.minsi c256_i32_375 v747
  let v1805 : BitVec 32 := Scalar.subi v748 v745
  let c1_i32_1196 : BitVec 32 := 1#32
  let v1807 : BitVec 32 := Scalar.divsi v1805 c1_i32_1196
  let v1808 : BitVec 32 := Scalar.muli v1807 c1_i32_1196
  let v1809 : BitVec 32 := Scalar.addi v745 v1808
  let c1_i32_1198 : BitVec 32 := 1#32
  let arg13 : BitVec 32 := Scf.iv v1809 c1_i32_1198 k1_t28
  let v1828 : Index := Scalar.indexCast arg13
  let c64 : Index := 64#32
  ![v1828.toNat, 64]
def k1_off111 (i : grid1.Coords) (v408 : BitVec 32) (v414 : BitVec 32) (k1_t28 : Fin (k1_t28_loop i v408 v414).trips) : Fin 2 → Nat :=
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let c256_i32_375 : BitVec 32 := 256#32
  let c0_i32_374 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c0_i32_373 : BitVec 32 := 0#32
  let v746 : BitVec 32 := Scalar.subi v418 c0_i32_373
  let v747 : BitVec 32 := Scalar.maxsi c0_i32_374 v746
  let v748 : BitVec 32 := Scalar.minsi c256_i32_375 v747
  let v1805 : BitVec 32 := Scalar.subi v748 v745
  let c1_i32_1196 : BitVec 32 := 1#32
  let v1807 : BitVec 32 := Scalar.divsi v1805 c1_i32_1196
  let v1808 : BitVec 32 := Scalar.muli v1807 c1_i32_1196
  let v1809 : BitVec 32 := Scalar.addi v745 v1808
  let c1_i32_1198 : BitVec 32 := 1#32
  let arg13 : BitVec 32 := Scf.iv v1809 c1_i32_1198 k1_t28
  let v1832 : Index := Scalar.indexCast arg13
  let c80 : Index := 80#32
  ![v1832.toNat, 80]
def k1_off112 (i : grid1.Coords) (v408 : BitVec 32) (v414 : BitVec 32) (k1_t28 : Fin (k1_t28_loop i v408 v414).trips) : Fin 2 → Nat :=
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let c256_i32_375 : BitVec 32 := 256#32
  let c0_i32_374 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c0_i32_373 : BitVec 32 := 0#32
  let v746 : BitVec 32 := Scalar.subi v418 c0_i32_373
  let v747 : BitVec 32 := Scalar.maxsi c0_i32_374 v746
  let v748 : BitVec 32 := Scalar.minsi c256_i32_375 v747
  let v1805 : BitVec 32 := Scalar.subi v748 v745
  let c1_i32_1196 : BitVec 32 := 1#32
  let v1807 : BitVec 32 := Scalar.divsi v1805 c1_i32_1196
  let v1808 : BitVec 32 := Scalar.muli v1807 c1_i32_1196
  let v1809 : BitVec 32 := Scalar.addi v745 v1808
  let c1_i32_1198 : BitVec 32 := 1#32
  let arg13 : BitVec 32 := Scf.iv v1809 c1_i32_1198 k1_t28
  let v1836 : Index := Scalar.indexCast arg13
  let c96 : Index := 96#32
  ![v1836.toNat, 96]
def k1_off113 (i : grid1.Coords) (v408 : BitVec 32) (v414 : BitVec 32) (k1_t28 : Fin (k1_t28_loop i v408 v414).trips) : Fin 2 → Nat :=
  let c256_i32_372 : BitVec 32 := 256#32
  let c0_i32_371 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c0_i32_370 : BitVec 32 := 0#32
  let v743 : BitVec 32 := Scalar.subi v412 c0_i32_370
  let v744 : BitVec 32 := Scalar.maxsi c0_i32_371 v743
  let v745 : BitVec 32 := Scalar.minsi c256_i32_372 v744
  let c256_i32_375 : BitVec 32 := 256#32
  let c0_i32_374 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c0_i32_373 : BitVec 32 := 0#32
  let v746 : BitVec 32 := Scalar.subi v418 c0_i32_373
  let v747 : BitVec 32 := Scalar.maxsi c0_i32_374 v746
  let v748 : BitVec 32 := Scalar.minsi c256_i32_375 v747
  let v1805 : BitVec 32 := Scalar.subi v748 v745
  let c1_i32_1196 : BitVec 32 := 1#32
  let v1807 : BitVec 32 := Scalar.divsi v1805 c1_i32_1196
  let v1808 : BitVec 32 := Scalar.muli v1807 c1_i32_1196
  let v1809 : BitVec 32 := Scalar.addi v745 v1808
  let c1_i32_1198 : BitVec 32 := 1#32
  let arg13 : BitVec 32 := Scf.iv v1809 c1_i32_1198 k1_t28
  let v1840 : Index := Scalar.indexCast arg13
  let c112 : Index := 112#32
  ![v1840.toNat, 112]
@[reducible] def k1_t29_loop (i : grid1.Coords) (v420 : BitVec 32) (v425 : BitVec 32) : Scf.Loop 32 :=
  let c256_i32_379 : BitVec 32 := 256#32
  let c0_i32_378 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let c256_i32_382 : BitVec 32 := 256#32
  let c0_i32_381 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c0_i32_380 : BitVec 32 := 0#32
  let v755 : BitVec 32 := Scalar.subi v428 c0_i32_380
  let v756 : BitVec 32 := Scalar.maxsi c0_i32_381 v755
  let v757 : BitVec 32 := Scalar.minsi c256_i32_382 v756
  let v1805 : BitVec 32 := Scalar.subi v757 v754
  let c1_i32_1196 : BitVec 32 := 1#32
  let v1807 : BitVec 32 := Scalar.divsi v1805 c1_i32_1196
  let v1808 : BitVec 32 := Scalar.muli v1807 c1_i32_1196
  let v1809 : BitVec 32 := Scalar.addi v754 v1808
  let c1_i32_1197 : BitVec 32 := 1#32
  ⟨v754, v1809, c1_i32_1197⟩
def k1_cond15 (i : grid1.Coords) (v420 : BitVec 32) (v425 : BitVec 32) : BitVec 1 :=
  let c256_i32_382 : BitVec 32 := 256#32
  let c0_i32_381 : BitVec 32 := 0#32
  let c1024_i32_184 : BitVec 32 := 1024#32
  let c0_i32_183 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v426 : BitVec 32 := Scalar.subi v425 v3
  let v427 : BitVec 32 := Scalar.maxsi c0_i32_183 v426
  let v428 : BitVec 32 := Scalar.minsi c1024_i32_184 v427
  let c0_i32_380 : BitVec 32 := 0#32
  let v755 : BitVec 32 := Scalar.subi v428 c0_i32_380
  let v756 : BitVec 32 := Scalar.maxsi c0_i32_381 v755
  let v757 : BitVec 32 := Scalar.minsi c256_i32_382 v756
  let c256_i32_379 : BitVec 32 := 256#32
  let c0_i32_378 : BitVec 32 := 0#32
  let c1024_i32_182 : BitVec 32 := 1024#32
  let c0_i32_181 : BitVec 32 := 0#32
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let v758 : BitVec 1 := Scalar.cmpi .sgt v757 v754
  let v759 : BitVec 32 := Scalar.extui v758
  let c0_i32_383 : BitVec 32 := 0#32
  let v760 : BitVec 1 := Scalar.cmpi .ne v759 c0_i32_383
  v760

def k1_off114 (i : grid1.Coords) (v420 : BitVec 32) (v425 : BitVec 32) (k1_t29 : Fin (k1_t29_loop i v420 v425).trips) : Fin 2 → Nat :=
  let c256_i32_379 : BitVec 32 := 256#32
  let c0_i32_378 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let c1_i32_1197 : BitVec 32 := 1#32
  let arg13 : BitVec 32 := Scf.iv v754 c1_i32_1197 k1_t29
  let v1828 : Index := Scalar.indexCast arg13
  let c0_1207 : Index := 0#32
  ![v1828.toNat, 0]
def k1_off115 (i : grid1.Coords) (v420 : BitVec 32) (v425 : BitVec 32) (k1_t29 : Fin (k1_t29_loop i v420 v425).trips) : Fin 2 → Nat :=
  let c256_i32_379 : BitVec 32 := 256#32
  let c0_i32_378 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let c1_i32_1197 : BitVec 32 := 1#32
  let arg13 : BitVec 32 := Scf.iv v754 c1_i32_1197 k1_t29
  let v1832 : Index := Scalar.indexCast arg13
  let c16_1208 : Index := 16#32
  ![v1832.toNat, 16]
def k1_off116 (i : grid1.Coords) (v420 : BitVec 32) (v425 : BitVec 32) (k1_t29 : Fin (k1_t29_loop i v420 v425).trips) : Fin 2 → Nat :=
  let c256_i32_379 : BitVec 32 := 256#32
  let c0_i32_378 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let c1_i32_1197 : BitVec 32 := 1#32
  let arg13 : BitVec 32 := Scf.iv v754 c1_i32_1197 k1_t29
  let v1836 : Index := Scalar.indexCast arg13
  let c32_1209 : Index := 32#32
  ![v1836.toNat, 32]
def k1_off117 (i : grid1.Coords) (v420 : BitVec 32) (v425 : BitVec 32) (k1_t29 : Fin (k1_t29_loop i v420 v425).trips) : Fin 2 → Nat :=
  let c256_i32_379 : BitVec 32 := 256#32
  let c0_i32_378 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let c1_i32_1197 : BitVec 32 := 1#32
  let arg13 : BitVec 32 := Scf.iv v754 c1_i32_1197 k1_t29
  let v1840 : Index := Scalar.indexCast arg13
  let c48_1210 : Index := 48#32
  ![v1840.toNat, 48]
@[reducible] def k1_t30_loop (i : grid1.Coords) (v420 : BitVec 32) (v425 : BitVec 32) : Scf.Loop 32 :=
  let c256_i32_379 : BitVec 32 := 256#32
  let c0_i32_378 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let c256_i32_382 : BitVec 32 := 256#32
  let c0_i32_381 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c0_i32_380 : BitVec 32 := 0#32
  let v755 : BitVec 32 := Scalar.subi v428 c0_i32_380
  let v756 : BitVec 32 := Scalar.maxsi c0_i32_381 v755
  let v757 : BitVec 32 := Scalar.minsi c256_i32_382 v756
  let v1805 : BitVec 32 := Scalar.subi v757 v754
  let c1_i32_1196 : BitVec 32 := 1#32
  let v1807 : BitVec 32 := Scalar.divsi v1805 c1_i32_1196
  let v1808 : BitVec 32 := Scalar.muli v1807 c1_i32_1196
  let v1809 : BitVec 32 := Scalar.addi v754 v1808
  let v1806 : BitVec 32 := Scalar.addi v754 v1805
  let c1_i32_1198 : BitVec 32 := 1#32
  ⟨v1809, v1806, c1_i32_1198⟩
def k1_off118 (i : grid1.Coords) (v420 : BitVec 32) (v425 : BitVec 32) (k1_t30 : Fin (k1_t30_loop i v420 v425).trips) : Fin 2 → Nat :=
  let c256_i32_379 : BitVec 32 := 256#32
  let c0_i32_378 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let c256_i32_382 : BitVec 32 := 256#32
  let c0_i32_381 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c0_i32_380 : BitVec 32 := 0#32
  let v755 : BitVec 32 := Scalar.subi v428 c0_i32_380
  let v756 : BitVec 32 := Scalar.maxsi c0_i32_381 v755
  let v757 : BitVec 32 := Scalar.minsi c256_i32_382 v756
  let v1805 : BitVec 32 := Scalar.subi v757 v754
  let c1_i32_1196 : BitVec 32 := 1#32
  let v1807 : BitVec 32 := Scalar.divsi v1805 c1_i32_1196
  let v1808 : BitVec 32 := Scalar.muli v1807 c1_i32_1196
  let v1809 : BitVec 32 := Scalar.addi v754 v1808
  let c1_i32_1198 : BitVec 32 := 1#32
  let arg13 : BitVec 32 := Scf.iv v1809 c1_i32_1198 k1_t30
  let v1828 : Index := Scalar.indexCast arg13
  let c0_1207 : Index := 0#32
  ![v1828.toNat, 0]
def k1_off119 (i : grid1.Coords) (v420 : BitVec 32) (v425 : BitVec 32) (k1_t30 : Fin (k1_t30_loop i v420 v425).trips) : Fin 2 → Nat :=
  let c256_i32_379 : BitVec 32 := 256#32
  let c0_i32_378 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let c256_i32_382 : BitVec 32 := 256#32
  let c0_i32_381 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c0_i32_380 : BitVec 32 := 0#32
  let v755 : BitVec 32 := Scalar.subi v428 c0_i32_380
  let v756 : BitVec 32 := Scalar.maxsi c0_i32_381 v755
  let v757 : BitVec 32 := Scalar.minsi c256_i32_382 v756
  let v1805 : BitVec 32 := Scalar.subi v757 v754
  let c1_i32_1196 : BitVec 32 := 1#32
  let v1807 : BitVec 32 := Scalar.divsi v1805 c1_i32_1196
  let v1808 : BitVec 32 := Scalar.muli v1807 c1_i32_1196
  let v1809 : BitVec 32 := Scalar.addi v754 v1808
  let c1_i32_1198 : BitVec 32 := 1#32
  let arg13 : BitVec 32 := Scf.iv v1809 c1_i32_1198 k1_t30
  let v1832 : Index := Scalar.indexCast arg13
  let c16_1208 : Index := 16#32
  ![v1832.toNat, 16]
def k1_off120 (i : grid1.Coords) (v420 : BitVec 32) (v425 : BitVec 32) (k1_t30 : Fin (k1_t30_loop i v420 v425).trips) : Fin 2 → Nat :=
  let c256_i32_379 : BitVec 32 := 256#32
  let c0_i32_378 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let c256_i32_382 : BitVec 32 := 256#32
  let c0_i32_381 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c0_i32_380 : BitVec 32 := 0#32
  let v755 : BitVec 32 := Scalar.subi v428 c0_i32_380
  let v756 : BitVec 32 := Scalar.maxsi c0_i32_381 v755
  let v757 : BitVec 32 := Scalar.minsi c256_i32_382 v756
  let v1805 : BitVec 32 := Scalar.subi v757 v754
  let c1_i32_1196 : BitVec 32 := 1#32
  let v1807 : BitVec 32 := Scalar.divsi v1805 c1_i32_1196
  let v1808 : BitVec 32 := Scalar.muli v1807 c1_i32_1196
  let v1809 : BitVec 32 := Scalar.addi v754 v1808
  let c1_i32_1198 : BitVec 32 := 1#32
  let arg13 : BitVec 32 := Scf.iv v1809 c1_i32_1198 k1_t30
  let v1836 : Index := Scalar.indexCast arg13
  let c32_1209 : Index := 32#32
  ![v1836.toNat, 32]
def k1_off121 (i : grid1.Coords) (v420 : BitVec 32) (v425 : BitVec 32) (k1_t30 : Fin (k1_t30_loop i v420 v425).trips) : Fin 2 → Nat :=
  let c256_i32_379 : BitVec 32 := 256#32
  let c0_i32_378 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c0_i32_377 : BitVec 32 := 0#32
  let v752 : BitVec 32 := Scalar.subi v423 c0_i32_377
  let v753 : BitVec 32 := Scalar.maxsi c0_i32_378 v752
  let v754 : BitVec 32 := Scalar.minsi c256_i32_379 v753
  let c256_i32_382 : BitVec 32 := 256#32
  let c0_i32_381 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c0_i32_380 : BitVec 32 := 0#32
  let v755 : BitVec 32 := Scalar.subi v428 c0_i32_380
  let v756 : BitVec 32 := Scalar.maxsi c0_i32_381 v755
  let v757 : BitVec 32 := Scalar.minsi c256_i32_382 v756
  let v1805 : BitVec 32 := Scalar.subi v757 v754
  let c1_i32_1196 : BitVec 32 := 1#32
  let v1807 : BitVec 32 := Scalar.divsi v1805 c1_i32_1196
  let v1808 : BitVec 32 := Scalar.muli v1807 c1_i32_1196
  let v1809 : BitVec 32 := Scalar.addi v754 v1808
  let c1_i32_1198 : BitVec 32 := 1#32
  let arg13 : BitVec 32 := Scf.iv v1809 c1_i32_1198 k1_t30
  let v1840 : Index := Scalar.indexCast arg13
  let c48_1210 : Index := 48#32
  ![v1840.toNat, 48]
@[reducible] def k1_t31_loop (i : grid1.Coords) (v430 : BitVec 32) (v436 : BitVec 32) : Scf.Loop 32 :=
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let c256_i32_389 : BitVec 32 := 256#32
  let c0_i32_388 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c0_i32_387 : BitVec 32 := 0#32
  let v764 : BitVec 32 := Scalar.subi v440 c0_i32_387
  let v765 : BitVec 32 := Scalar.maxsi c0_i32_388 v764
  let v766 : BitVec 32 := Scalar.minsi c256_i32_389 v765
  let v1805 : BitVec 32 := Scalar.subi v766 v763
  let c1_i32_1196 : BitVec 32 := 1#32
  let v1807 : BitVec 32 := Scalar.divsi v1805 c1_i32_1196
  let v1808 : BitVec 32 := Scalar.muli v1807 c1_i32_1196
  let v1809 : BitVec 32 := Scalar.addi v763 v1808
  let c1_i32_1197 : BitVec 32 := 1#32
  ⟨v763, v1809, c1_i32_1197⟩
def k1_cond16 (i : grid1.Coords) (v430 : BitVec 32) (v436 : BitVec 32) : BitVec 1 :=
  let c256_i32_389 : BitVec 32 := 256#32
  let c0_i32_388 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v438 : BitVec 32 := Scalar.subi v437 v3
  let v439 : BitVec 32 := Scalar.maxsi c0_i32_189 v438
  let v440 : BitVec 32 := Scalar.minsi c1024_i32_190 v439
  let c0_i32_387 : BitVec 32 := 0#32
  let v764 : BitVec 32 := Scalar.subi v440 c0_i32_387
  let v765 : BitVec 32 := Scalar.maxsi c0_i32_388 v764
  let v766 : BitVec 32 := Scalar.minsi c256_i32_389 v765
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let v767 : BitVec 1 := Scalar.cmpi .sgt v766 v763
  let v768 : BitVec 32 := Scalar.extui v767
  let c0_i32_390 : BitVec 32 := 0#32
  let v769 : BitVec 1 := Scalar.cmpi .ne v768 c0_i32_390
  v769

def k1_off122 (i : grid1.Coords) (v430 : BitVec 32) (v436 : BitVec 32) (k1_t31 : Fin (k1_t31_loop i v430 v436).trips) : Fin 2 → Nat :=
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let c1_i32_1197 : BitVec 32 := 1#32
  let arg13 : BitVec 32 := Scf.iv v763 c1_i32_1197 k1_t31
  let v1828 : Index := Scalar.indexCast arg13
  let c64 : Index := 64#32
  ![v1828.toNat, 64]
def k1_off123 (i : grid1.Coords) (v430 : BitVec 32) (v436 : BitVec 32) (k1_t31 : Fin (k1_t31_loop i v430 v436).trips) : Fin 2 → Nat :=
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let c1_i32_1197 : BitVec 32 := 1#32
  let arg13 : BitVec 32 := Scf.iv v763 c1_i32_1197 k1_t31
  let v1832 : Index := Scalar.indexCast arg13
  let c80 : Index := 80#32
  ![v1832.toNat, 80]
def k1_off124 (i : grid1.Coords) (v430 : BitVec 32) (v436 : BitVec 32) (k1_t31 : Fin (k1_t31_loop i v430 v436).trips) : Fin 2 → Nat :=
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let c1_i32_1197 : BitVec 32 := 1#32
  let arg13 : BitVec 32 := Scf.iv v763 c1_i32_1197 k1_t31
  let v1836 : Index := Scalar.indexCast arg13
  let c96 : Index := 96#32
  ![v1836.toNat, 96]
def k1_off125 (i : grid1.Coords) (v430 : BitVec 32) (v436 : BitVec 32) (k1_t31 : Fin (k1_t31_loop i v430 v436).trips) : Fin 2 → Nat :=
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let c1_i32_1197 : BitVec 32 := 1#32
  let arg13 : BitVec 32 := Scf.iv v763 c1_i32_1197 k1_t31
  let v1840 : Index := Scalar.indexCast arg13
  let c112 : Index := 112#32
  ![v1840.toNat, 112]
@[reducible] def k1_t32_loop (i : grid1.Coords) (v430 : BitVec 32) (v436 : BitVec 32) : Scf.Loop 32 :=
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let c256_i32_389 : BitVec 32 := 256#32
  let c0_i32_388 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c0_i32_387 : BitVec 32 := 0#32
  let v764 : BitVec 32 := Scalar.subi v440 c0_i32_387
  let v765 : BitVec 32 := Scalar.maxsi c0_i32_388 v764
  let v766 : BitVec 32 := Scalar.minsi c256_i32_389 v765
  let v1805 : BitVec 32 := Scalar.subi v766 v763
  let c1_i32_1196 : BitVec 32 := 1#32
  let v1807 : BitVec 32 := Scalar.divsi v1805 c1_i32_1196
  let v1808 : BitVec 32 := Scalar.muli v1807 c1_i32_1196
  let v1809 : BitVec 32 := Scalar.addi v763 v1808
  let v1806 : BitVec 32 := Scalar.addi v763 v1805
  let c1_i32_1198 : BitVec 32 := 1#32
  ⟨v1809, v1806, c1_i32_1198⟩
def k1_off126 (i : grid1.Coords) (v430 : BitVec 32) (v436 : BitVec 32) (k1_t32 : Fin (k1_t32_loop i v430 v436).trips) : Fin 2 → Nat :=
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let c256_i32_389 : BitVec 32 := 256#32
  let c0_i32_388 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c0_i32_387 : BitVec 32 := 0#32
  let v764 : BitVec 32 := Scalar.subi v440 c0_i32_387
  let v765 : BitVec 32 := Scalar.maxsi c0_i32_388 v764
  let v766 : BitVec 32 := Scalar.minsi c256_i32_389 v765
  let v1805 : BitVec 32 := Scalar.subi v766 v763
  let c1_i32_1196 : BitVec 32 := 1#32
  let v1807 : BitVec 32 := Scalar.divsi v1805 c1_i32_1196
  let v1808 : BitVec 32 := Scalar.muli v1807 c1_i32_1196
  let v1809 : BitVec 32 := Scalar.addi v763 v1808
  let c1_i32_1198 : BitVec 32 := 1#32
  let arg13 : BitVec 32 := Scf.iv v1809 c1_i32_1198 k1_t32
  let v1828 : Index := Scalar.indexCast arg13
  let c64 : Index := 64#32
  ![v1828.toNat, 64]
def k1_off127 (i : grid1.Coords) (v430 : BitVec 32) (v436 : BitVec 32) (k1_t32 : Fin (k1_t32_loop i v430 v436).trips) : Fin 2 → Nat :=
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let c256_i32_389 : BitVec 32 := 256#32
  let c0_i32_388 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c0_i32_387 : BitVec 32 := 0#32
  let v764 : BitVec 32 := Scalar.subi v440 c0_i32_387
  let v765 : BitVec 32 := Scalar.maxsi c0_i32_388 v764
  let v766 : BitVec 32 := Scalar.minsi c256_i32_389 v765
  let v1805 : BitVec 32 := Scalar.subi v766 v763
  let c1_i32_1196 : BitVec 32 := 1#32
  let v1807 : BitVec 32 := Scalar.divsi v1805 c1_i32_1196
  let v1808 : BitVec 32 := Scalar.muli v1807 c1_i32_1196
  let v1809 : BitVec 32 := Scalar.addi v763 v1808
  let c1_i32_1198 : BitVec 32 := 1#32
  let arg13 : BitVec 32 := Scf.iv v1809 c1_i32_1198 k1_t32
  let v1832 : Index := Scalar.indexCast arg13
  let c80 : Index := 80#32
  ![v1832.toNat, 80]
def k1_off128 (i : grid1.Coords) (v430 : BitVec 32) (v436 : BitVec 32) (k1_t32 : Fin (k1_t32_loop i v430 v436).trips) : Fin 2 → Nat :=
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let c256_i32_389 : BitVec 32 := 256#32
  let c0_i32_388 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c0_i32_387 : BitVec 32 := 0#32
  let v764 : BitVec 32 := Scalar.subi v440 c0_i32_387
  let v765 : BitVec 32 := Scalar.maxsi c0_i32_388 v764
  let v766 : BitVec 32 := Scalar.minsi c256_i32_389 v765
  let v1805 : BitVec 32 := Scalar.subi v766 v763
  let c1_i32_1196 : BitVec 32 := 1#32
  let v1807 : BitVec 32 := Scalar.divsi v1805 c1_i32_1196
  let v1808 : BitVec 32 := Scalar.muli v1807 c1_i32_1196
  let v1809 : BitVec 32 := Scalar.addi v763 v1808
  let c1_i32_1198 : BitVec 32 := 1#32
  let arg13 : BitVec 32 := Scf.iv v1809 c1_i32_1198 k1_t32
  let v1836 : Index := Scalar.indexCast arg13
  let c96 : Index := 96#32
  ![v1836.toNat, 96]
def k1_off129 (i : grid1.Coords) (v430 : BitVec 32) (v436 : BitVec 32) (k1_t32 : Fin (k1_t32_loop i v430 v436).trips) : Fin 2 → Nat :=
  let c256_i32_386 : BitVec 32 := 256#32
  let c0_i32_385 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c0_i32_384 : BitVec 32 := 0#32
  let v761 : BitVec 32 := Scalar.subi v434 c0_i32_384
  let v762 : BitVec 32 := Scalar.maxsi c0_i32_385 v761
  let v763 : BitVec 32 := Scalar.minsi c256_i32_386 v762
  let c256_i32_389 : BitVec 32 := 256#32
  let c0_i32_388 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c0_i32_387 : BitVec 32 := 0#32
  let v764 : BitVec 32 := Scalar.subi v440 c0_i32_387
  let v765 : BitVec 32 := Scalar.maxsi c0_i32_388 v764
  let v766 : BitVec 32 := Scalar.minsi c256_i32_389 v765
  let v1805 : BitVec 32 := Scalar.subi v766 v763
  let c1_i32_1196 : BitVec 32 := 1#32
  let v1807 : BitVec 32 := Scalar.divsi v1805 c1_i32_1196
  let v1808 : BitVec 32 := Scalar.muli v1807 c1_i32_1196
  let v1809 : BitVec 32 := Scalar.addi v763 v1808
  let c1_i32_1198 : BitVec 32 := 1#32
  let arg13 : BitVec 32 := Scf.iv v1809 c1_i32_1198 k1_t32
  let v1840 : Index := Scalar.indexCast arg13
  let c112 : Index := 112#32
  ![v1840.toNat, 112]
@[reducible] def k1_t33_loop (i : grid1.Coords) (v442 : BitVec 32) (v447 : BitVec 32) : Scf.Loop 32 :=
  let c256_i32_393 : BitVec 32 := 256#32
  let c0_i32_392 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let c256_i32_396 : BitVec 32 := 256#32
  let c0_i32_395 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c0_i32_394 : BitVec 32 := 0#32
  let v773 : BitVec 32 := Scalar.subi v450 c0_i32_394
  let v774 : BitVec 32 := Scalar.maxsi c0_i32_395 v773
  let v775 : BitVec 32 := Scalar.minsi c256_i32_396 v774
  let v1805 : BitVec 32 := Scalar.subi v775 v772
  let c1_i32_1196 : BitVec 32 := 1#32
  let v1807 : BitVec 32 := Scalar.divsi v1805 c1_i32_1196
  let v1808 : BitVec 32 := Scalar.muli v1807 c1_i32_1196
  let v1809 : BitVec 32 := Scalar.addi v772 v1808
  let c1_i32_1197 : BitVec 32 := 1#32
  ⟨v772, v1809, c1_i32_1197⟩
def k1_cond17 (i : grid1.Coords) (v442 : BitVec 32) (v447 : BitVec 32) : BitVec 1 :=
  let c256_i32_396 : BitVec 32 := 256#32
  let c0_i32_395 : BitVec 32 := 0#32
  let c1024_i32_194 : BitVec 32 := 1024#32
  let c0_i32_193 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v448 : BitVec 32 := Scalar.subi v447 v3
  let v449 : BitVec 32 := Scalar.maxsi c0_i32_193 v448
  let v450 : BitVec 32 := Scalar.minsi c1024_i32_194 v449
  let c0_i32_394 : BitVec 32 := 0#32
  let v773 : BitVec 32 := Scalar.subi v450 c0_i32_394
  let v774 : BitVec 32 := Scalar.maxsi c0_i32_395 v773
  let v775 : BitVec 32 := Scalar.minsi c256_i32_396 v774
  let c256_i32_393 : BitVec 32 := 256#32
  let c0_i32_392 : BitVec 32 := 0#32
  let c1024_i32_192 : BitVec 32 := 1024#32
  let c0_i32_191 : BitVec 32 := 0#32
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let v776 : BitVec 1 := Scalar.cmpi .sgt v775 v772
  let v777 : BitVec 32 := Scalar.extui v776
  let c0_i32_397 : BitVec 32 := 0#32
  let v778 : BitVec 1 := Scalar.cmpi .ne v777 c0_i32_397
  v778

def k1_off130 (i : grid1.Coords) (v442 : BitVec 32) (v447 : BitVec 32) (k1_t33 : Fin (k1_t33_loop i v442 v447).trips) : Fin 2 → Nat :=
  let c256_i32_393 : BitVec 32 := 256#32
  let c0_i32_392 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let c1_i32_1197 : BitVec 32 := 1#32
  let arg13 : BitVec 32 := Scf.iv v772 c1_i32_1197 k1_t33
  let v1828 : Index := Scalar.indexCast arg13
  let c0_1207 : Index := 0#32
  ![v1828.toNat, 0]
def k1_off131 (i : grid1.Coords) (v442 : BitVec 32) (v447 : BitVec 32) (k1_t33 : Fin (k1_t33_loop i v442 v447).trips) : Fin 2 → Nat :=
  let c256_i32_393 : BitVec 32 := 256#32
  let c0_i32_392 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let c1_i32_1197 : BitVec 32 := 1#32
  let arg13 : BitVec 32 := Scf.iv v772 c1_i32_1197 k1_t33
  let v1832 : Index := Scalar.indexCast arg13
  let c16_1208 : Index := 16#32
  ![v1832.toNat, 16]
def k1_off132 (i : grid1.Coords) (v442 : BitVec 32) (v447 : BitVec 32) (k1_t33 : Fin (k1_t33_loop i v442 v447).trips) : Fin 2 → Nat :=
  let c256_i32_393 : BitVec 32 := 256#32
  let c0_i32_392 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let c1_i32_1197 : BitVec 32 := 1#32
  let arg13 : BitVec 32 := Scf.iv v772 c1_i32_1197 k1_t33
  let v1836 : Index := Scalar.indexCast arg13
  let c32_1209 : Index := 32#32
  ![v1836.toNat, 32]
def k1_off133 (i : grid1.Coords) (v442 : BitVec 32) (v447 : BitVec 32) (k1_t33 : Fin (k1_t33_loop i v442 v447).trips) : Fin 2 → Nat :=
  let c256_i32_393 : BitVec 32 := 256#32
  let c0_i32_392 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let c1_i32_1197 : BitVec 32 := 1#32
  let arg13 : BitVec 32 := Scf.iv v772 c1_i32_1197 k1_t33
  let v1840 : Index := Scalar.indexCast arg13
  let c48_1210 : Index := 48#32
  ![v1840.toNat, 48]
@[reducible] def k1_t34_loop (i : grid1.Coords) (v442 : BitVec 32) (v447 : BitVec 32) : Scf.Loop 32 :=
  let c256_i32_393 : BitVec 32 := 256#32
  let c0_i32_392 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let c256_i32_396 : BitVec 32 := 256#32
  let c0_i32_395 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c0_i32_394 : BitVec 32 := 0#32
  let v773 : BitVec 32 := Scalar.subi v450 c0_i32_394
  let v774 : BitVec 32 := Scalar.maxsi c0_i32_395 v773
  let v775 : BitVec 32 := Scalar.minsi c256_i32_396 v774
  let v1805 : BitVec 32 := Scalar.subi v775 v772
  let c1_i32_1196 : BitVec 32 := 1#32
  let v1807 : BitVec 32 := Scalar.divsi v1805 c1_i32_1196
  let v1808 : BitVec 32 := Scalar.muli v1807 c1_i32_1196
  let v1809 : BitVec 32 := Scalar.addi v772 v1808
  let v1806 : BitVec 32 := Scalar.addi v772 v1805
  let c1_i32_1198 : BitVec 32 := 1#32
  ⟨v1809, v1806, c1_i32_1198⟩
def k1_off134 (i : grid1.Coords) (v442 : BitVec 32) (v447 : BitVec 32) (k1_t34 : Fin (k1_t34_loop i v442 v447).trips) : Fin 2 → Nat :=
  let c256_i32_393 : BitVec 32 := 256#32
  let c0_i32_392 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let c256_i32_396 : BitVec 32 := 256#32
  let c0_i32_395 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c0_i32_394 : BitVec 32 := 0#32
  let v773 : BitVec 32 := Scalar.subi v450 c0_i32_394
  let v774 : BitVec 32 := Scalar.maxsi c0_i32_395 v773
  let v775 : BitVec 32 := Scalar.minsi c256_i32_396 v774
  let v1805 : BitVec 32 := Scalar.subi v775 v772
  let c1_i32_1196 : BitVec 32 := 1#32
  let v1807 : BitVec 32 := Scalar.divsi v1805 c1_i32_1196
  let v1808 : BitVec 32 := Scalar.muli v1807 c1_i32_1196
  let v1809 : BitVec 32 := Scalar.addi v772 v1808
  let c1_i32_1198 : BitVec 32 := 1#32
  let arg13 : BitVec 32 := Scf.iv v1809 c1_i32_1198 k1_t34
  let v1828 : Index := Scalar.indexCast arg13
  let c0_1207 : Index := 0#32
  ![v1828.toNat, 0]
def k1_off135 (i : grid1.Coords) (v442 : BitVec 32) (v447 : BitVec 32) (k1_t34 : Fin (k1_t34_loop i v442 v447).trips) : Fin 2 → Nat :=
  let c256_i32_393 : BitVec 32 := 256#32
  let c0_i32_392 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let c256_i32_396 : BitVec 32 := 256#32
  let c0_i32_395 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c0_i32_394 : BitVec 32 := 0#32
  let v773 : BitVec 32 := Scalar.subi v450 c0_i32_394
  let v774 : BitVec 32 := Scalar.maxsi c0_i32_395 v773
  let v775 : BitVec 32 := Scalar.minsi c256_i32_396 v774
  let v1805 : BitVec 32 := Scalar.subi v775 v772
  let c1_i32_1196 : BitVec 32 := 1#32
  let v1807 : BitVec 32 := Scalar.divsi v1805 c1_i32_1196
  let v1808 : BitVec 32 := Scalar.muli v1807 c1_i32_1196
  let v1809 : BitVec 32 := Scalar.addi v772 v1808
  let c1_i32_1198 : BitVec 32 := 1#32
  let arg13 : BitVec 32 := Scf.iv v1809 c1_i32_1198 k1_t34
  let v1832 : Index := Scalar.indexCast arg13
  let c16_1208 : Index := 16#32
  ![v1832.toNat, 16]
def k1_off136 (i : grid1.Coords) (v442 : BitVec 32) (v447 : BitVec 32) (k1_t34 : Fin (k1_t34_loop i v442 v447).trips) : Fin 2 → Nat :=
  let c256_i32_393 : BitVec 32 := 256#32
  let c0_i32_392 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let c256_i32_396 : BitVec 32 := 256#32
  let c0_i32_395 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c0_i32_394 : BitVec 32 := 0#32
  let v773 : BitVec 32 := Scalar.subi v450 c0_i32_394
  let v774 : BitVec 32 := Scalar.maxsi c0_i32_395 v773
  let v775 : BitVec 32 := Scalar.minsi c256_i32_396 v774
  let v1805 : BitVec 32 := Scalar.subi v775 v772
  let c1_i32_1196 : BitVec 32 := 1#32
  let v1807 : BitVec 32 := Scalar.divsi v1805 c1_i32_1196
  let v1808 : BitVec 32 := Scalar.muli v1807 c1_i32_1196
  let v1809 : BitVec 32 := Scalar.addi v772 v1808
  let c1_i32_1198 : BitVec 32 := 1#32
  let arg13 : BitVec 32 := Scf.iv v1809 c1_i32_1198 k1_t34
  let v1836 : Index := Scalar.indexCast arg13
  let c32_1209 : Index := 32#32
  ![v1836.toNat, 32]
def k1_off137 (i : grid1.Coords) (v442 : BitVec 32) (v447 : BitVec 32) (k1_t34 : Fin (k1_t34_loop i v442 v447).trips) : Fin 2 → Nat :=
  let c256_i32_393 : BitVec 32 := 256#32
  let c0_i32_392 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c0_i32_391 : BitVec 32 := 0#32
  let v770 : BitVec 32 := Scalar.subi v445 c0_i32_391
  let v771 : BitVec 32 := Scalar.maxsi c0_i32_392 v770
  let v772 : BitVec 32 := Scalar.minsi c256_i32_393 v771
  let c256_i32_396 : BitVec 32 := 256#32
  let c0_i32_395 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c0_i32_394 : BitVec 32 := 0#32
  let v773 : BitVec 32 := Scalar.subi v450 c0_i32_394
  let v774 : BitVec 32 := Scalar.maxsi c0_i32_395 v773
  let v775 : BitVec 32 := Scalar.minsi c256_i32_396 v774
  let v1805 : BitVec 32 := Scalar.subi v775 v772
  let c1_i32_1196 : BitVec 32 := 1#32
  let v1807 : BitVec 32 := Scalar.divsi v1805 c1_i32_1196
  let v1808 : BitVec 32 := Scalar.muli v1807 c1_i32_1196
  let v1809 : BitVec 32 := Scalar.addi v772 v1808
  let c1_i32_1198 : BitVec 32 := 1#32
  let arg13 : BitVec 32 := Scf.iv v1809 c1_i32_1198 k1_t34
  let v1840 : Index := Scalar.indexCast arg13
  let c48_1210 : Index := 48#32
  ![v1840.toNat, 48]
@[reducible] def k1_t35_loop (i : grid1.Coords) (v452 : BitVec 32) (v458 : BitVec 32) : Scf.Loop 32 :=
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let c256_i32_403 : BitVec 32 := 256#32
  let c0_i32_402 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c0_i32_401 : BitVec 32 := 0#32
  let v782 : BitVec 32 := Scalar.subi v462 c0_i32_401
  let v783 : BitVec 32 := Scalar.maxsi c0_i32_402 v782
  let v784 : BitVec 32 := Scalar.minsi c256_i32_403 v783
  let v1805 : BitVec 32 := Scalar.subi v784 v781
  let c1_i32_1196 : BitVec 32 := 1#32
  let v1807 : BitVec 32 := Scalar.divsi v1805 c1_i32_1196
  let v1808 : BitVec 32 := Scalar.muli v1807 c1_i32_1196
  let v1809 : BitVec 32 := Scalar.addi v781 v1808
  let c1_i32_1197 : BitVec 32 := 1#32
  ⟨v781, v1809, c1_i32_1197⟩
def k1_cond18 (i : grid1.Coords) (v452 : BitVec 32) (v458 : BitVec 32) : BitVec 1 :=
  let c256_i32_403 : BitVec 32 := 256#32
  let c0_i32_402 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v460 : BitVec 32 := Scalar.subi v459 v3
  let v461 : BitVec 32 := Scalar.maxsi c0_i32_199 v460
  let v462 : BitVec 32 := Scalar.minsi c1024_i32_200 v461
  let c0_i32_401 : BitVec 32 := 0#32
  let v782 : BitVec 32 := Scalar.subi v462 c0_i32_401
  let v783 : BitVec 32 := Scalar.maxsi c0_i32_402 v782
  let v784 : BitVec 32 := Scalar.minsi c256_i32_403 v783
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let v785 : BitVec 1 := Scalar.cmpi .sgt v784 v781
  let v786 : BitVec 32 := Scalar.extui v785
  let c0_i32_404 : BitVec 32 := 0#32
  let v787 : BitVec 1 := Scalar.cmpi .ne v786 c0_i32_404
  v787

def k1_off138 (i : grid1.Coords) (v452 : BitVec 32) (v458 : BitVec 32) (k1_t35 : Fin (k1_t35_loop i v452 v458).trips) : Fin 2 → Nat :=
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let c1_i32_1197 : BitVec 32 := 1#32
  let arg13 : BitVec 32 := Scf.iv v781 c1_i32_1197 k1_t35
  let v1828 : Index := Scalar.indexCast arg13
  let c64 : Index := 64#32
  ![v1828.toNat, 64]
def k1_off139 (i : grid1.Coords) (v452 : BitVec 32) (v458 : BitVec 32) (k1_t35 : Fin (k1_t35_loop i v452 v458).trips) : Fin 2 → Nat :=
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let c1_i32_1197 : BitVec 32 := 1#32
  let arg13 : BitVec 32 := Scf.iv v781 c1_i32_1197 k1_t35
  let v1832 : Index := Scalar.indexCast arg13
  let c80 : Index := 80#32
  ![v1832.toNat, 80]
def k1_off140 (i : grid1.Coords) (v452 : BitVec 32) (v458 : BitVec 32) (k1_t35 : Fin (k1_t35_loop i v452 v458).trips) : Fin 2 → Nat :=
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let c1_i32_1197 : BitVec 32 := 1#32
  let arg13 : BitVec 32 := Scf.iv v781 c1_i32_1197 k1_t35
  let v1836 : Index := Scalar.indexCast arg13
  let c96 : Index := 96#32
  ![v1836.toNat, 96]
def k1_off141 (i : grid1.Coords) (v452 : BitVec 32) (v458 : BitVec 32) (k1_t35 : Fin (k1_t35_loop i v452 v458).trips) : Fin 2 → Nat :=
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let c1_i32_1197 : BitVec 32 := 1#32
  let arg13 : BitVec 32 := Scf.iv v781 c1_i32_1197 k1_t35
  let v1840 : Index := Scalar.indexCast arg13
  let c112 : Index := 112#32
  ![v1840.toNat, 112]
@[reducible] def k1_t36_loop (i : grid1.Coords) (v452 : BitVec 32) (v458 : BitVec 32) : Scf.Loop 32 :=
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let c256_i32_403 : BitVec 32 := 256#32
  let c0_i32_402 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c0_i32_401 : BitVec 32 := 0#32
  let v782 : BitVec 32 := Scalar.subi v462 c0_i32_401
  let v783 : BitVec 32 := Scalar.maxsi c0_i32_402 v782
  let v784 : BitVec 32 := Scalar.minsi c256_i32_403 v783
  let v1805 : BitVec 32 := Scalar.subi v784 v781
  let c1_i32_1196 : BitVec 32 := 1#32
  let v1807 : BitVec 32 := Scalar.divsi v1805 c1_i32_1196
  let v1808 : BitVec 32 := Scalar.muli v1807 c1_i32_1196
  let v1809 : BitVec 32 := Scalar.addi v781 v1808
  let v1806 : BitVec 32 := Scalar.addi v781 v1805
  let c1_i32_1198 : BitVec 32 := 1#32
  ⟨v1809, v1806, c1_i32_1198⟩
def k1_off142 (i : grid1.Coords) (v452 : BitVec 32) (v458 : BitVec 32) (k1_t36 : Fin (k1_t36_loop i v452 v458).trips) : Fin 2 → Nat :=
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let c256_i32_403 : BitVec 32 := 256#32
  let c0_i32_402 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c0_i32_401 : BitVec 32 := 0#32
  let v782 : BitVec 32 := Scalar.subi v462 c0_i32_401
  let v783 : BitVec 32 := Scalar.maxsi c0_i32_402 v782
  let v784 : BitVec 32 := Scalar.minsi c256_i32_403 v783
  let v1805 : BitVec 32 := Scalar.subi v784 v781
  let c1_i32_1196 : BitVec 32 := 1#32
  let v1807 : BitVec 32 := Scalar.divsi v1805 c1_i32_1196
  let v1808 : BitVec 32 := Scalar.muli v1807 c1_i32_1196
  let v1809 : BitVec 32 := Scalar.addi v781 v1808
  let c1_i32_1198 : BitVec 32 := 1#32
  let arg13 : BitVec 32 := Scf.iv v1809 c1_i32_1198 k1_t36
  let v1828 : Index := Scalar.indexCast arg13
  let c64 : Index := 64#32
  ![v1828.toNat, 64]
def k1_off143 (i : grid1.Coords) (v452 : BitVec 32) (v458 : BitVec 32) (k1_t36 : Fin (k1_t36_loop i v452 v458).trips) : Fin 2 → Nat :=
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let c256_i32_403 : BitVec 32 := 256#32
  let c0_i32_402 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c0_i32_401 : BitVec 32 := 0#32
  let v782 : BitVec 32 := Scalar.subi v462 c0_i32_401
  let v783 : BitVec 32 := Scalar.maxsi c0_i32_402 v782
  let v784 : BitVec 32 := Scalar.minsi c256_i32_403 v783
  let v1805 : BitVec 32 := Scalar.subi v784 v781
  let c1_i32_1196 : BitVec 32 := 1#32
  let v1807 : BitVec 32 := Scalar.divsi v1805 c1_i32_1196
  let v1808 : BitVec 32 := Scalar.muli v1807 c1_i32_1196
  let v1809 : BitVec 32 := Scalar.addi v781 v1808
  let c1_i32_1198 : BitVec 32 := 1#32
  let arg13 : BitVec 32 := Scf.iv v1809 c1_i32_1198 k1_t36
  let v1832 : Index := Scalar.indexCast arg13
  let c80 : Index := 80#32
  ![v1832.toNat, 80]
def k1_off144 (i : grid1.Coords) (v452 : BitVec 32) (v458 : BitVec 32) (k1_t36 : Fin (k1_t36_loop i v452 v458).trips) : Fin 2 → Nat :=
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let c256_i32_403 : BitVec 32 := 256#32
  let c0_i32_402 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c0_i32_401 : BitVec 32 := 0#32
  let v782 : BitVec 32 := Scalar.subi v462 c0_i32_401
  let v783 : BitVec 32 := Scalar.maxsi c0_i32_402 v782
  let v784 : BitVec 32 := Scalar.minsi c256_i32_403 v783
  let v1805 : BitVec 32 := Scalar.subi v784 v781
  let c1_i32_1196 : BitVec 32 := 1#32
  let v1807 : BitVec 32 := Scalar.divsi v1805 c1_i32_1196
  let v1808 : BitVec 32 := Scalar.muli v1807 c1_i32_1196
  let v1809 : BitVec 32 := Scalar.addi v781 v1808
  let c1_i32_1198 : BitVec 32 := 1#32
  let arg13 : BitVec 32 := Scf.iv v1809 c1_i32_1198 k1_t36
  let v1836 : Index := Scalar.indexCast arg13
  let c96 : Index := 96#32
  ![v1836.toNat, 96]
def k1_off145 (i : grid1.Coords) (v452 : BitVec 32) (v458 : BitVec 32) (k1_t36 : Fin (k1_t36_loop i v452 v458).trips) : Fin 2 → Nat :=
  let c256_i32_400 : BitVec 32 := 256#32
  let c0_i32_399 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c0_i32_398 : BitVec 32 := 0#32
  let v779 : BitVec 32 := Scalar.subi v456 c0_i32_398
  let v780 : BitVec 32 := Scalar.maxsi c0_i32_399 v779
  let v781 : BitVec 32 := Scalar.minsi c256_i32_400 v780
  let c256_i32_403 : BitVec 32 := 256#32
  let c0_i32_402 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c0_i32_401 : BitVec 32 := 0#32
  let v782 : BitVec 32 := Scalar.subi v462 c0_i32_401
  let v783 : BitVec 32 := Scalar.maxsi c0_i32_402 v782
  let v784 : BitVec 32 := Scalar.minsi c256_i32_403 v783
  let v1805 : BitVec 32 := Scalar.subi v784 v781
  let c1_i32_1196 : BitVec 32 := 1#32
  let v1807 : BitVec 32 := Scalar.divsi v1805 c1_i32_1196
  let v1808 : BitVec 32 := Scalar.muli v1807 c1_i32_1196
  let v1809 : BitVec 32 := Scalar.addi v781 v1808
  let c1_i32_1198 : BitVec 32 := 1#32
  let arg13 : BitVec 32 := Scf.iv v1809 c1_i32_1198 k1_t36
  let v1840 : Index := Scalar.indexCast arg13
  let c112 : Index := 112#32
  ![v1840.toNat, 112]
@[reducible] def k1_t37_loop (i : grid1.Coords) (v464 : BitVec 32) (v469 : BitVec 32) : Scf.Loop 32 :=
  let c256_i32_407 : BitVec 32 := 256#32
  let c0_i32_406 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let c256_i32_410 : BitVec 32 := 256#32
  let c0_i32_409 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c0_i32_408 : BitVec 32 := 0#32
  let v791 : BitVec 32 := Scalar.subi v472 c0_i32_408
  let v792 : BitVec 32 := Scalar.maxsi c0_i32_409 v791
  let v793 : BitVec 32 := Scalar.minsi c256_i32_410 v792
  let v1805 : BitVec 32 := Scalar.subi v793 v790
  let c1_i32_1196 : BitVec 32 := 1#32
  let v1807 : BitVec 32 := Scalar.divsi v1805 c1_i32_1196
  let v1808 : BitVec 32 := Scalar.muli v1807 c1_i32_1196
  let v1809 : BitVec 32 := Scalar.addi v790 v1808
  let c1_i32_1197 : BitVec 32 := 1#32
  ⟨v790, v1809, c1_i32_1197⟩
def k1_cond19 (i : grid1.Coords) (v464 : BitVec 32) (v469 : BitVec 32) : BitVec 1 :=
  let c256_i32_410 : BitVec 32 := 256#32
  let c0_i32_409 : BitVec 32 := 0#32
  let c1024_i32_204 : BitVec 32 := 1024#32
  let c0_i32_203 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v470 : BitVec 32 := Scalar.subi v469 v3
  let v471 : BitVec 32 := Scalar.maxsi c0_i32_203 v470
  let v472 : BitVec 32 := Scalar.minsi c1024_i32_204 v471
  let c0_i32_408 : BitVec 32 := 0#32
  let v791 : BitVec 32 := Scalar.subi v472 c0_i32_408
  let v792 : BitVec 32 := Scalar.maxsi c0_i32_409 v791
  let v793 : BitVec 32 := Scalar.minsi c256_i32_410 v792
  let c256_i32_407 : BitVec 32 := 256#32
  let c0_i32_406 : BitVec 32 := 0#32
  let c1024_i32_202 : BitVec 32 := 1024#32
  let c0_i32_201 : BitVec 32 := 0#32
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let v794 : BitVec 1 := Scalar.cmpi .sgt v793 v790
  let v795 : BitVec 32 := Scalar.extui v794
  let c0_i32_411 : BitVec 32 := 0#32
  let v796 : BitVec 1 := Scalar.cmpi .ne v795 c0_i32_411
  v796

def k1_off146 (i : grid1.Coords) (v464 : BitVec 32) (v469 : BitVec 32) (k1_t37 : Fin (k1_t37_loop i v464 v469).trips) : Fin 2 → Nat :=
  let c256_i32_407 : BitVec 32 := 256#32
  let c0_i32_406 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let c1_i32_1197 : BitVec 32 := 1#32
  let arg13 : BitVec 32 := Scf.iv v790 c1_i32_1197 k1_t37
  let v1828 : Index := Scalar.indexCast arg13
  let c0_1207 : Index := 0#32
  ![v1828.toNat, 0]
def k1_off147 (i : grid1.Coords) (v464 : BitVec 32) (v469 : BitVec 32) (k1_t37 : Fin (k1_t37_loop i v464 v469).trips) : Fin 2 → Nat :=
  let c256_i32_407 : BitVec 32 := 256#32
  let c0_i32_406 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let c1_i32_1197 : BitVec 32 := 1#32
  let arg13 : BitVec 32 := Scf.iv v790 c1_i32_1197 k1_t37
  let v1832 : Index := Scalar.indexCast arg13
  let c16_1208 : Index := 16#32
  ![v1832.toNat, 16]
def k1_off148 (i : grid1.Coords) (v464 : BitVec 32) (v469 : BitVec 32) (k1_t37 : Fin (k1_t37_loop i v464 v469).trips) : Fin 2 → Nat :=
  let c256_i32_407 : BitVec 32 := 256#32
  let c0_i32_406 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let c1_i32_1197 : BitVec 32 := 1#32
  let arg13 : BitVec 32 := Scf.iv v790 c1_i32_1197 k1_t37
  let v1836 : Index := Scalar.indexCast arg13
  let c32_1209 : Index := 32#32
  ![v1836.toNat, 32]
def k1_off149 (i : grid1.Coords) (v464 : BitVec 32) (v469 : BitVec 32) (k1_t37 : Fin (k1_t37_loop i v464 v469).trips) : Fin 2 → Nat :=
  let c256_i32_407 : BitVec 32 := 256#32
  let c0_i32_406 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let c1_i32_1197 : BitVec 32 := 1#32
  let arg13 : BitVec 32 := Scf.iv v790 c1_i32_1197 k1_t37
  let v1840 : Index := Scalar.indexCast arg13
  let c48_1210 : Index := 48#32
  ![v1840.toNat, 48]
@[reducible] def k1_t38_loop (i : grid1.Coords) (v464 : BitVec 32) (v469 : BitVec 32) : Scf.Loop 32 :=
  let c256_i32_407 : BitVec 32 := 256#32
  let c0_i32_406 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let c256_i32_410 : BitVec 32 := 256#32
  let c0_i32_409 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c0_i32_408 : BitVec 32 := 0#32
  let v791 : BitVec 32 := Scalar.subi v472 c0_i32_408
  let v792 : BitVec 32 := Scalar.maxsi c0_i32_409 v791
  let v793 : BitVec 32 := Scalar.minsi c256_i32_410 v792
  let v1805 : BitVec 32 := Scalar.subi v793 v790
  let c1_i32_1196 : BitVec 32 := 1#32
  let v1807 : BitVec 32 := Scalar.divsi v1805 c1_i32_1196
  let v1808 : BitVec 32 := Scalar.muli v1807 c1_i32_1196
  let v1809 : BitVec 32 := Scalar.addi v790 v1808
  let v1806 : BitVec 32 := Scalar.addi v790 v1805
  let c1_i32_1198 : BitVec 32 := 1#32
  ⟨v1809, v1806, c1_i32_1198⟩
def k1_off150 (i : grid1.Coords) (v464 : BitVec 32) (v469 : BitVec 32) (k1_t38 : Fin (k1_t38_loop i v464 v469).trips) : Fin 2 → Nat :=
  let c256_i32_407 : BitVec 32 := 256#32
  let c0_i32_406 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let c256_i32_410 : BitVec 32 := 256#32
  let c0_i32_409 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c0_i32_408 : BitVec 32 := 0#32
  let v791 : BitVec 32 := Scalar.subi v472 c0_i32_408
  let v792 : BitVec 32 := Scalar.maxsi c0_i32_409 v791
  let v793 : BitVec 32 := Scalar.minsi c256_i32_410 v792
  let v1805 : BitVec 32 := Scalar.subi v793 v790
  let c1_i32_1196 : BitVec 32 := 1#32
  let v1807 : BitVec 32 := Scalar.divsi v1805 c1_i32_1196
  let v1808 : BitVec 32 := Scalar.muli v1807 c1_i32_1196
  let v1809 : BitVec 32 := Scalar.addi v790 v1808
  let c1_i32_1198 : BitVec 32 := 1#32
  let arg13 : BitVec 32 := Scf.iv v1809 c1_i32_1198 k1_t38
  let v1828 : Index := Scalar.indexCast arg13
  let c0_1207 : Index := 0#32
  ![v1828.toNat, 0]
def k1_off151 (i : grid1.Coords) (v464 : BitVec 32) (v469 : BitVec 32) (k1_t38 : Fin (k1_t38_loop i v464 v469).trips) : Fin 2 → Nat :=
  let c256_i32_407 : BitVec 32 := 256#32
  let c0_i32_406 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let c256_i32_410 : BitVec 32 := 256#32
  let c0_i32_409 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c0_i32_408 : BitVec 32 := 0#32
  let v791 : BitVec 32 := Scalar.subi v472 c0_i32_408
  let v792 : BitVec 32 := Scalar.maxsi c0_i32_409 v791
  let v793 : BitVec 32 := Scalar.minsi c256_i32_410 v792
  let v1805 : BitVec 32 := Scalar.subi v793 v790
  let c1_i32_1196 : BitVec 32 := 1#32
  let v1807 : BitVec 32 := Scalar.divsi v1805 c1_i32_1196
  let v1808 : BitVec 32 := Scalar.muli v1807 c1_i32_1196
  let v1809 : BitVec 32 := Scalar.addi v790 v1808
  let c1_i32_1198 : BitVec 32 := 1#32
  let arg13 : BitVec 32 := Scf.iv v1809 c1_i32_1198 k1_t38
  let v1832 : Index := Scalar.indexCast arg13
  let c16_1208 : Index := 16#32
  ![v1832.toNat, 16]
def k1_off152 (i : grid1.Coords) (v464 : BitVec 32) (v469 : BitVec 32) (k1_t38 : Fin (k1_t38_loop i v464 v469).trips) : Fin 2 → Nat :=
  let c256_i32_407 : BitVec 32 := 256#32
  let c0_i32_406 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let c256_i32_410 : BitVec 32 := 256#32
  let c0_i32_409 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c0_i32_408 : BitVec 32 := 0#32
  let v791 : BitVec 32 := Scalar.subi v472 c0_i32_408
  let v792 : BitVec 32 := Scalar.maxsi c0_i32_409 v791
  let v793 : BitVec 32 := Scalar.minsi c256_i32_410 v792
  let v1805 : BitVec 32 := Scalar.subi v793 v790
  let c1_i32_1196 : BitVec 32 := 1#32
  let v1807 : BitVec 32 := Scalar.divsi v1805 c1_i32_1196
  let v1808 : BitVec 32 := Scalar.muli v1807 c1_i32_1196
  let v1809 : BitVec 32 := Scalar.addi v790 v1808
  let c1_i32_1198 : BitVec 32 := 1#32
  let arg13 : BitVec 32 := Scf.iv v1809 c1_i32_1198 k1_t38
  let v1836 : Index := Scalar.indexCast arg13
  let c32_1209 : Index := 32#32
  ![v1836.toNat, 32]
def k1_off153 (i : grid1.Coords) (v464 : BitVec 32) (v469 : BitVec 32) (k1_t38 : Fin (k1_t38_loop i v464 v469).trips) : Fin 2 → Nat :=
  let c256_i32_407 : BitVec 32 := 256#32
  let c0_i32_406 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c0_i32_405 : BitVec 32 := 0#32
  let v788 : BitVec 32 := Scalar.subi v467 c0_i32_405
  let v789 : BitVec 32 := Scalar.maxsi c0_i32_406 v788
  let v790 : BitVec 32 := Scalar.minsi c256_i32_407 v789
  let c256_i32_410 : BitVec 32 := 256#32
  let c0_i32_409 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c0_i32_408 : BitVec 32 := 0#32
  let v791 : BitVec 32 := Scalar.subi v472 c0_i32_408
  let v792 : BitVec 32 := Scalar.maxsi c0_i32_409 v791
  let v793 : BitVec 32 := Scalar.minsi c256_i32_410 v792
  let v1805 : BitVec 32 := Scalar.subi v793 v790
  let c1_i32_1196 : BitVec 32 := 1#32
  let v1807 : BitVec 32 := Scalar.divsi v1805 c1_i32_1196
  let v1808 : BitVec 32 := Scalar.muli v1807 c1_i32_1196
  let v1809 : BitVec 32 := Scalar.addi v790 v1808
  let c1_i32_1198 : BitVec 32 := 1#32
  let arg13 : BitVec 32 := Scf.iv v1809 c1_i32_1198 k1_t38
  let v1840 : Index := Scalar.indexCast arg13
  let c48_1210 : Index := 48#32
  ![v1840.toNat, 48]
@[reducible] def k1_t39_loop (i : grid1.Coords) (v474 : BitVec 32) (v480 : BitVec 32) : Scf.Loop 32 :=
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let c256_i32_417 : BitVec 32 := 256#32
  let c0_i32_416 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c0_i32_415 : BitVec 32 := 0#32
  let v800 : BitVec 32 := Scalar.subi v484 c0_i32_415
  let v801 : BitVec 32 := Scalar.maxsi c0_i32_416 v800
  let v802 : BitVec 32 := Scalar.minsi c256_i32_417 v801
  let v1805 : BitVec 32 := Scalar.subi v802 v799
  let c1_i32_1196 : BitVec 32 := 1#32
  let v1807 : BitVec 32 := Scalar.divsi v1805 c1_i32_1196
  let v1808 : BitVec 32 := Scalar.muli v1807 c1_i32_1196
  let v1809 : BitVec 32 := Scalar.addi v799 v1808
  let c1_i32_1197 : BitVec 32 := 1#32
  ⟨v799, v1809, c1_i32_1197⟩
def k1_cond20 (i : grid1.Coords) (v474 : BitVec 32) (v480 : BitVec 32) : BitVec 1 :=
  let c256_i32_417 : BitVec 32 := 256#32
  let c0_i32_416 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v482 : BitVec 32 := Scalar.subi v481 v3
  let v483 : BitVec 32 := Scalar.maxsi c0_i32_209 v482
  let v484 : BitVec 32 := Scalar.minsi c1024_i32_210 v483
  let c0_i32_415 : BitVec 32 := 0#32
  let v800 : BitVec 32 := Scalar.subi v484 c0_i32_415
  let v801 : BitVec 32 := Scalar.maxsi c0_i32_416 v800
  let v802 : BitVec 32 := Scalar.minsi c256_i32_417 v801
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let v803 : BitVec 1 := Scalar.cmpi .sgt v802 v799
  let v804 : BitVec 32 := Scalar.extui v803
  let c0_i32_418 : BitVec 32 := 0#32
  let v805 : BitVec 1 := Scalar.cmpi .ne v804 c0_i32_418
  v805

def k1_off154 (i : grid1.Coords) (v474 : BitVec 32) (v480 : BitVec 32) (k1_t39 : Fin (k1_t39_loop i v474 v480).trips) : Fin 2 → Nat :=
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let c1_i32_1197 : BitVec 32 := 1#32
  let arg13 : BitVec 32 := Scf.iv v799 c1_i32_1197 k1_t39
  let v1828 : Index := Scalar.indexCast arg13
  let c64 : Index := 64#32
  ![v1828.toNat, 64]
def k1_off155 (i : grid1.Coords) (v474 : BitVec 32) (v480 : BitVec 32) (k1_t39 : Fin (k1_t39_loop i v474 v480).trips) : Fin 2 → Nat :=
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let c1_i32_1197 : BitVec 32 := 1#32
  let arg13 : BitVec 32 := Scf.iv v799 c1_i32_1197 k1_t39
  let v1832 : Index := Scalar.indexCast arg13
  let c80 : Index := 80#32
  ![v1832.toNat, 80]
def k1_off156 (i : grid1.Coords) (v474 : BitVec 32) (v480 : BitVec 32) (k1_t39 : Fin (k1_t39_loop i v474 v480).trips) : Fin 2 → Nat :=
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let c1_i32_1197 : BitVec 32 := 1#32
  let arg13 : BitVec 32 := Scf.iv v799 c1_i32_1197 k1_t39
  let v1836 : Index := Scalar.indexCast arg13
  let c96 : Index := 96#32
  ![v1836.toNat, 96]
def k1_off157 (i : grid1.Coords) (v474 : BitVec 32) (v480 : BitVec 32) (k1_t39 : Fin (k1_t39_loop i v474 v480).trips) : Fin 2 → Nat :=
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let c1_i32_1197 : BitVec 32 := 1#32
  let arg13 : BitVec 32 := Scf.iv v799 c1_i32_1197 k1_t39
  let v1840 : Index := Scalar.indexCast arg13
  let c112 : Index := 112#32
  ![v1840.toNat, 112]
@[reducible] def k1_t40_loop (i : grid1.Coords) (v474 : BitVec 32) (v480 : BitVec 32) : Scf.Loop 32 :=
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let c256_i32_417 : BitVec 32 := 256#32
  let c0_i32_416 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c0_i32_415 : BitVec 32 := 0#32
  let v800 : BitVec 32 := Scalar.subi v484 c0_i32_415
  let v801 : BitVec 32 := Scalar.maxsi c0_i32_416 v800
  let v802 : BitVec 32 := Scalar.minsi c256_i32_417 v801
  let v1805 : BitVec 32 := Scalar.subi v802 v799
  let c1_i32_1196 : BitVec 32 := 1#32
  let v1807 : BitVec 32 := Scalar.divsi v1805 c1_i32_1196
  let v1808 : BitVec 32 := Scalar.muli v1807 c1_i32_1196
  let v1809 : BitVec 32 := Scalar.addi v799 v1808
  let v1806 : BitVec 32 := Scalar.addi v799 v1805
  let c1_i32_1198 : BitVec 32 := 1#32
  ⟨v1809, v1806, c1_i32_1198⟩
def k1_off158 (i : grid1.Coords) (v474 : BitVec 32) (v480 : BitVec 32) (k1_t40 : Fin (k1_t40_loop i v474 v480).trips) : Fin 2 → Nat :=
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let c256_i32_417 : BitVec 32 := 256#32
  let c0_i32_416 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c0_i32_415 : BitVec 32 := 0#32
  let v800 : BitVec 32 := Scalar.subi v484 c0_i32_415
  let v801 : BitVec 32 := Scalar.maxsi c0_i32_416 v800
  let v802 : BitVec 32 := Scalar.minsi c256_i32_417 v801
  let v1805 : BitVec 32 := Scalar.subi v802 v799
  let c1_i32_1196 : BitVec 32 := 1#32
  let v1807 : BitVec 32 := Scalar.divsi v1805 c1_i32_1196
  let v1808 : BitVec 32 := Scalar.muli v1807 c1_i32_1196
  let v1809 : BitVec 32 := Scalar.addi v799 v1808
  let c1_i32_1198 : BitVec 32 := 1#32
  let arg13 : BitVec 32 := Scf.iv v1809 c1_i32_1198 k1_t40
  let v1828 : Index := Scalar.indexCast arg13
  let c64 : Index := 64#32
  ![v1828.toNat, 64]
def k1_off159 (i : grid1.Coords) (v474 : BitVec 32) (v480 : BitVec 32) (k1_t40 : Fin (k1_t40_loop i v474 v480).trips) : Fin 2 → Nat :=
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let c256_i32_417 : BitVec 32 := 256#32
  let c0_i32_416 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c0_i32_415 : BitVec 32 := 0#32
  let v800 : BitVec 32 := Scalar.subi v484 c0_i32_415
  let v801 : BitVec 32 := Scalar.maxsi c0_i32_416 v800
  let v802 : BitVec 32 := Scalar.minsi c256_i32_417 v801
  let v1805 : BitVec 32 := Scalar.subi v802 v799
  let c1_i32_1196 : BitVec 32 := 1#32
  let v1807 : BitVec 32 := Scalar.divsi v1805 c1_i32_1196
  let v1808 : BitVec 32 := Scalar.muli v1807 c1_i32_1196
  let v1809 : BitVec 32 := Scalar.addi v799 v1808
  let c1_i32_1198 : BitVec 32 := 1#32
  let arg13 : BitVec 32 := Scf.iv v1809 c1_i32_1198 k1_t40
  let v1832 : Index := Scalar.indexCast arg13
  let c80 : Index := 80#32
  ![v1832.toNat, 80]
def k1_off160 (i : grid1.Coords) (v474 : BitVec 32) (v480 : BitVec 32) (k1_t40 : Fin (k1_t40_loop i v474 v480).trips) : Fin 2 → Nat :=
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let c256_i32_417 : BitVec 32 := 256#32
  let c0_i32_416 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c0_i32_415 : BitVec 32 := 0#32
  let v800 : BitVec 32 := Scalar.subi v484 c0_i32_415
  let v801 : BitVec 32 := Scalar.maxsi c0_i32_416 v800
  let v802 : BitVec 32 := Scalar.minsi c256_i32_417 v801
  let v1805 : BitVec 32 := Scalar.subi v802 v799
  let c1_i32_1196 : BitVec 32 := 1#32
  let v1807 : BitVec 32 := Scalar.divsi v1805 c1_i32_1196
  let v1808 : BitVec 32 := Scalar.muli v1807 c1_i32_1196
  let v1809 : BitVec 32 := Scalar.addi v799 v1808
  let c1_i32_1198 : BitVec 32 := 1#32
  let arg13 : BitVec 32 := Scf.iv v1809 c1_i32_1198 k1_t40
  let v1836 : Index := Scalar.indexCast arg13
  let c96 : Index := 96#32
  ![v1836.toNat, 96]
def k1_off161 (i : grid1.Coords) (v474 : BitVec 32) (v480 : BitVec 32) (k1_t40 : Fin (k1_t40_loop i v474 v480).trips) : Fin 2 → Nat :=
  let c256_i32_414 : BitVec 32 := 256#32
  let c0_i32_413 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c0_i32_412 : BitVec 32 := 0#32
  let v797 : BitVec 32 := Scalar.subi v478 c0_i32_412
  let v798 : BitVec 32 := Scalar.maxsi c0_i32_413 v797
  let v799 : BitVec 32 := Scalar.minsi c256_i32_414 v798
  let c256_i32_417 : BitVec 32 := 256#32
  let c0_i32_416 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c0_i32_415 : BitVec 32 := 0#32
  let v800 : BitVec 32 := Scalar.subi v484 c0_i32_415
  let v801 : BitVec 32 := Scalar.maxsi c0_i32_416 v800
  let v802 : BitVec 32 := Scalar.minsi c256_i32_417 v801
  let v1805 : BitVec 32 := Scalar.subi v802 v799
  let c1_i32_1196 : BitVec 32 := 1#32
  let v1807 : BitVec 32 := Scalar.divsi v1805 c1_i32_1196
  let v1808 : BitVec 32 := Scalar.muli v1807 c1_i32_1196
  let v1809 : BitVec 32 := Scalar.addi v799 v1808
  let c1_i32_1198 : BitVec 32 := 1#32
  let arg13 : BitVec 32 := Scf.iv v1809 c1_i32_1198 k1_t40
  let v1840 : Index := Scalar.indexCast arg13
  let c112 : Index := 112#32
  ![v1840.toNat, 112]
@[reducible] def k1_t41_loop (i : grid1.Coords) (v486 : BitVec 32) (v491 : BitVec 32) : Scf.Loop 32 :=
  let c256_i32_421 : BitVec 32 := 256#32
  let c0_i32_420 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let c256_i32_424 : BitVec 32 := 256#32
  let c0_i32_423 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c0_i32_422 : BitVec 32 := 0#32
  let v809 : BitVec 32 := Scalar.subi v494 c0_i32_422
  let v810 : BitVec 32 := Scalar.maxsi c0_i32_423 v809
  let v811 : BitVec 32 := Scalar.minsi c256_i32_424 v810
  let v1805 : BitVec 32 := Scalar.subi v811 v808
  let c1_i32_1196 : BitVec 32 := 1#32
  let v1807 : BitVec 32 := Scalar.divsi v1805 c1_i32_1196
  let v1808 : BitVec 32 := Scalar.muli v1807 c1_i32_1196
  let v1809 : BitVec 32 := Scalar.addi v808 v1808
  let c1_i32_1197 : BitVec 32 := 1#32
  ⟨v808, v1809, c1_i32_1197⟩
def k1_cond21 (i : grid1.Coords) (v486 : BitVec 32) (v491 : BitVec 32) : BitVec 1 :=
  let c256_i32_424 : BitVec 32 := 256#32
  let c0_i32_423 : BitVec 32 := 0#32
  let c1024_i32_214 : BitVec 32 := 1024#32
  let c0_i32_213 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v492 : BitVec 32 := Scalar.subi v491 v3
  let v493 : BitVec 32 := Scalar.maxsi c0_i32_213 v492
  let v494 : BitVec 32 := Scalar.minsi c1024_i32_214 v493
  let c0_i32_422 : BitVec 32 := 0#32
  let v809 : BitVec 32 := Scalar.subi v494 c0_i32_422
  let v810 : BitVec 32 := Scalar.maxsi c0_i32_423 v809
  let v811 : BitVec 32 := Scalar.minsi c256_i32_424 v810
  let c256_i32_421 : BitVec 32 := 256#32
  let c0_i32_420 : BitVec 32 := 0#32
  let c1024_i32_212 : BitVec 32 := 1024#32
  let c0_i32_211 : BitVec 32 := 0#32
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let v812 : BitVec 1 := Scalar.cmpi .sgt v811 v808
  let v813 : BitVec 32 := Scalar.extui v812
  let c0_i32_425 : BitVec 32 := 0#32
  let v814 : BitVec 1 := Scalar.cmpi .ne v813 c0_i32_425
  v814

def k1_off162 (i : grid1.Coords) (v486 : BitVec 32) (v491 : BitVec 32) (k1_t41 : Fin (k1_t41_loop i v486 v491).trips) : Fin 2 → Nat :=
  let c256_i32_421 : BitVec 32 := 256#32
  let c0_i32_420 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let c1_i32_1197 : BitVec 32 := 1#32
  let arg13 : BitVec 32 := Scf.iv v808 c1_i32_1197 k1_t41
  let v1828 : Index := Scalar.indexCast arg13
  let c0_1207 : Index := 0#32
  ![v1828.toNat, 0]
def k1_off163 (i : grid1.Coords) (v486 : BitVec 32) (v491 : BitVec 32) (k1_t41 : Fin (k1_t41_loop i v486 v491).trips) : Fin 2 → Nat :=
  let c256_i32_421 : BitVec 32 := 256#32
  let c0_i32_420 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let c1_i32_1197 : BitVec 32 := 1#32
  let arg13 : BitVec 32 := Scf.iv v808 c1_i32_1197 k1_t41
  let v1832 : Index := Scalar.indexCast arg13
  let c16_1208 : Index := 16#32
  ![v1832.toNat, 16]
def k1_off164 (i : grid1.Coords) (v486 : BitVec 32) (v491 : BitVec 32) (k1_t41 : Fin (k1_t41_loop i v486 v491).trips) : Fin 2 → Nat :=
  let c256_i32_421 : BitVec 32 := 256#32
  let c0_i32_420 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let c1_i32_1197 : BitVec 32 := 1#32
  let arg13 : BitVec 32 := Scf.iv v808 c1_i32_1197 k1_t41
  let v1836 : Index := Scalar.indexCast arg13
  let c32_1209 : Index := 32#32
  ![v1836.toNat, 32]
def k1_off165 (i : grid1.Coords) (v486 : BitVec 32) (v491 : BitVec 32) (k1_t41 : Fin (k1_t41_loop i v486 v491).trips) : Fin 2 → Nat :=
  let c256_i32_421 : BitVec 32 := 256#32
  let c0_i32_420 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let c1_i32_1197 : BitVec 32 := 1#32
  let arg13 : BitVec 32 := Scf.iv v808 c1_i32_1197 k1_t41
  let v1840 : Index := Scalar.indexCast arg13
  let c48_1210 : Index := 48#32
  ![v1840.toNat, 48]
@[reducible] def k1_t42_loop (i : grid1.Coords) (v486 : BitVec 32) (v491 : BitVec 32) : Scf.Loop 32 :=
  let c256_i32_421 : BitVec 32 := 256#32
  let c0_i32_420 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let c256_i32_424 : BitVec 32 := 256#32
  let c0_i32_423 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c0_i32_422 : BitVec 32 := 0#32
  let v809 : BitVec 32 := Scalar.subi v494 c0_i32_422
  let v810 : BitVec 32 := Scalar.maxsi c0_i32_423 v809
  let v811 : BitVec 32 := Scalar.minsi c256_i32_424 v810
  let v1805 : BitVec 32 := Scalar.subi v811 v808
  let c1_i32_1196 : BitVec 32 := 1#32
  let v1807 : BitVec 32 := Scalar.divsi v1805 c1_i32_1196
  let v1808 : BitVec 32 := Scalar.muli v1807 c1_i32_1196
  let v1809 : BitVec 32 := Scalar.addi v808 v1808
  let v1806 : BitVec 32 := Scalar.addi v808 v1805
  let c1_i32_1198 : BitVec 32 := 1#32
  ⟨v1809, v1806, c1_i32_1198⟩
def k1_off166 (i : grid1.Coords) (v486 : BitVec 32) (v491 : BitVec 32) (k1_t42 : Fin (k1_t42_loop i v486 v491).trips) : Fin 2 → Nat :=
  let c256_i32_421 : BitVec 32 := 256#32
  let c0_i32_420 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let c256_i32_424 : BitVec 32 := 256#32
  let c0_i32_423 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c0_i32_422 : BitVec 32 := 0#32
  let v809 : BitVec 32 := Scalar.subi v494 c0_i32_422
  let v810 : BitVec 32 := Scalar.maxsi c0_i32_423 v809
  let v811 : BitVec 32 := Scalar.minsi c256_i32_424 v810
  let v1805 : BitVec 32 := Scalar.subi v811 v808
  let c1_i32_1196 : BitVec 32 := 1#32
  let v1807 : BitVec 32 := Scalar.divsi v1805 c1_i32_1196
  let v1808 : BitVec 32 := Scalar.muli v1807 c1_i32_1196
  let v1809 : BitVec 32 := Scalar.addi v808 v1808
  let c1_i32_1198 : BitVec 32 := 1#32
  let arg13 : BitVec 32 := Scf.iv v1809 c1_i32_1198 k1_t42
  let v1828 : Index := Scalar.indexCast arg13
  let c0_1207 : Index := 0#32
  ![v1828.toNat, 0]
def k1_off167 (i : grid1.Coords) (v486 : BitVec 32) (v491 : BitVec 32) (k1_t42 : Fin (k1_t42_loop i v486 v491).trips) : Fin 2 → Nat :=
  let c256_i32_421 : BitVec 32 := 256#32
  let c0_i32_420 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let c256_i32_424 : BitVec 32 := 256#32
  let c0_i32_423 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c0_i32_422 : BitVec 32 := 0#32
  let v809 : BitVec 32 := Scalar.subi v494 c0_i32_422
  let v810 : BitVec 32 := Scalar.maxsi c0_i32_423 v809
  let v811 : BitVec 32 := Scalar.minsi c256_i32_424 v810
  let v1805 : BitVec 32 := Scalar.subi v811 v808
  let c1_i32_1196 : BitVec 32 := 1#32
  let v1807 : BitVec 32 := Scalar.divsi v1805 c1_i32_1196
  let v1808 : BitVec 32 := Scalar.muli v1807 c1_i32_1196
  let v1809 : BitVec 32 := Scalar.addi v808 v1808
  let c1_i32_1198 : BitVec 32 := 1#32
  let arg13 : BitVec 32 := Scf.iv v1809 c1_i32_1198 k1_t42
  let v1832 : Index := Scalar.indexCast arg13
  let c16_1208 : Index := 16#32
  ![v1832.toNat, 16]
def k1_off168 (i : grid1.Coords) (v486 : BitVec 32) (v491 : BitVec 32) (k1_t42 : Fin (k1_t42_loop i v486 v491).trips) : Fin 2 → Nat :=
  let c256_i32_421 : BitVec 32 := 256#32
  let c0_i32_420 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let c256_i32_424 : BitVec 32 := 256#32
  let c0_i32_423 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c0_i32_422 : BitVec 32 := 0#32
  let v809 : BitVec 32 := Scalar.subi v494 c0_i32_422
  let v810 : BitVec 32 := Scalar.maxsi c0_i32_423 v809
  let v811 : BitVec 32 := Scalar.minsi c256_i32_424 v810
  let v1805 : BitVec 32 := Scalar.subi v811 v808
  let c1_i32_1196 : BitVec 32 := 1#32
  let v1807 : BitVec 32 := Scalar.divsi v1805 c1_i32_1196
  let v1808 : BitVec 32 := Scalar.muli v1807 c1_i32_1196
  let v1809 : BitVec 32 := Scalar.addi v808 v1808
  let c1_i32_1198 : BitVec 32 := 1#32
  let arg13 : BitVec 32 := Scf.iv v1809 c1_i32_1198 k1_t42
  let v1836 : Index := Scalar.indexCast arg13
  let c32_1209 : Index := 32#32
  ![v1836.toNat, 32]
def k1_off169 (i : grid1.Coords) (v486 : BitVec 32) (v491 : BitVec 32) (k1_t42 : Fin (k1_t42_loop i v486 v491).trips) : Fin 2 → Nat :=
  let c256_i32_421 : BitVec 32 := 256#32
  let c0_i32_420 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c0_i32_419 : BitVec 32 := 0#32
  let v806 : BitVec 32 := Scalar.subi v489 c0_i32_419
  let v807 : BitVec 32 := Scalar.maxsi c0_i32_420 v806
  let v808 : BitVec 32 := Scalar.minsi c256_i32_421 v807
  let c256_i32_424 : BitVec 32 := 256#32
  let c0_i32_423 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c0_i32_422 : BitVec 32 := 0#32
  let v809 : BitVec 32 := Scalar.subi v494 c0_i32_422
  let v810 : BitVec 32 := Scalar.maxsi c0_i32_423 v809
  let v811 : BitVec 32 := Scalar.minsi c256_i32_424 v810
  let v1805 : BitVec 32 := Scalar.subi v811 v808
  let c1_i32_1196 : BitVec 32 := 1#32
  let v1807 : BitVec 32 := Scalar.divsi v1805 c1_i32_1196
  let v1808 : BitVec 32 := Scalar.muli v1807 c1_i32_1196
  let v1809 : BitVec 32 := Scalar.addi v808 v1808
  let c1_i32_1198 : BitVec 32 := 1#32
  let arg13 : BitVec 32 := Scf.iv v1809 c1_i32_1198 k1_t42
  let v1840 : Index := Scalar.indexCast arg13
  let c48_1210 : Index := 48#32
  ![v1840.toNat, 48]
@[reducible] def k1_t43_loop (i : grid1.Coords) (v496 : BitVec 32) (v502 : BitVec 32) : Scf.Loop 32 :=
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let c256_i32_431 : BitVec 32 := 256#32
  let c0_i32_430 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c0_i32_429 : BitVec 32 := 0#32
  let v818 : BitVec 32 := Scalar.subi v506 c0_i32_429
  let v819 : BitVec 32 := Scalar.maxsi c0_i32_430 v818
  let v820 : BitVec 32 := Scalar.minsi c256_i32_431 v819
  let v1805 : BitVec 32 := Scalar.subi v820 v817
  let c1_i32_1196 : BitVec 32 := 1#32
  let v1807 : BitVec 32 := Scalar.divsi v1805 c1_i32_1196
  let v1808 : BitVec 32 := Scalar.muli v1807 c1_i32_1196
  let v1809 : BitVec 32 := Scalar.addi v817 v1808
  let c1_i32_1197 : BitVec 32 := 1#32
  ⟨v817, v1809, c1_i32_1197⟩
def k1_cond22 (i : grid1.Coords) (v496 : BitVec 32) (v502 : BitVec 32) : BitVec 1 :=
  let c256_i32_431 : BitVec 32 := 256#32
  let c0_i32_430 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v504 : BitVec 32 := Scalar.subi v503 v3
  let v505 : BitVec 32 := Scalar.maxsi c0_i32_219 v504
  let v506 : BitVec 32 := Scalar.minsi c1024_i32_220 v505
  let c0_i32_429 : BitVec 32 := 0#32
  let v818 : BitVec 32 := Scalar.subi v506 c0_i32_429
  let v819 : BitVec 32 := Scalar.maxsi c0_i32_430 v818
  let v820 : BitVec 32 := Scalar.minsi c256_i32_431 v819
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let v821 : BitVec 1 := Scalar.cmpi .sgt v820 v817
  let v822 : BitVec 32 := Scalar.extui v821
  let c0_i32_432 : BitVec 32 := 0#32
  let v823 : BitVec 1 := Scalar.cmpi .ne v822 c0_i32_432
  v823

def k1_off170 (i : grid1.Coords) (v496 : BitVec 32) (v502 : BitVec 32) (k1_t43 : Fin (k1_t43_loop i v496 v502).trips) : Fin 2 → Nat :=
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let c1_i32_1197 : BitVec 32 := 1#32
  let arg13 : BitVec 32 := Scf.iv v817 c1_i32_1197 k1_t43
  let v1828 : Index := Scalar.indexCast arg13
  let c64 : Index := 64#32
  ![v1828.toNat, 64]
def k1_off171 (i : grid1.Coords) (v496 : BitVec 32) (v502 : BitVec 32) (k1_t43 : Fin (k1_t43_loop i v496 v502).trips) : Fin 2 → Nat :=
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let c1_i32_1197 : BitVec 32 := 1#32
  let arg13 : BitVec 32 := Scf.iv v817 c1_i32_1197 k1_t43
  let v1832 : Index := Scalar.indexCast arg13
  let c80 : Index := 80#32
  ![v1832.toNat, 80]
def k1_off172 (i : grid1.Coords) (v496 : BitVec 32) (v502 : BitVec 32) (k1_t43 : Fin (k1_t43_loop i v496 v502).trips) : Fin 2 → Nat :=
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let c1_i32_1197 : BitVec 32 := 1#32
  let arg13 : BitVec 32 := Scf.iv v817 c1_i32_1197 k1_t43
  let v1836 : Index := Scalar.indexCast arg13
  let c96 : Index := 96#32
  ![v1836.toNat, 96]
def k1_off173 (i : grid1.Coords) (v496 : BitVec 32) (v502 : BitVec 32) (k1_t43 : Fin (k1_t43_loop i v496 v502).trips) : Fin 2 → Nat :=
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let c1_i32_1197 : BitVec 32 := 1#32
  let arg13 : BitVec 32 := Scf.iv v817 c1_i32_1197 k1_t43
  let v1840 : Index := Scalar.indexCast arg13
  let c112 : Index := 112#32
  ![v1840.toNat, 112]
@[reducible] def k1_t44_loop (i : grid1.Coords) (v496 : BitVec 32) (v502 : BitVec 32) : Scf.Loop 32 :=
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let c256_i32_431 : BitVec 32 := 256#32
  let c0_i32_430 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c0_i32_429 : BitVec 32 := 0#32
  let v818 : BitVec 32 := Scalar.subi v506 c0_i32_429
  let v819 : BitVec 32 := Scalar.maxsi c0_i32_430 v818
  let v820 : BitVec 32 := Scalar.minsi c256_i32_431 v819
  let v1805 : BitVec 32 := Scalar.subi v820 v817
  let c1_i32_1196 : BitVec 32 := 1#32
  let v1807 : BitVec 32 := Scalar.divsi v1805 c1_i32_1196
  let v1808 : BitVec 32 := Scalar.muli v1807 c1_i32_1196
  let v1809 : BitVec 32 := Scalar.addi v817 v1808
  let v1806 : BitVec 32 := Scalar.addi v817 v1805
  let c1_i32_1198 : BitVec 32 := 1#32
  ⟨v1809, v1806, c1_i32_1198⟩
def k1_off174 (i : grid1.Coords) (v496 : BitVec 32) (v502 : BitVec 32) (k1_t44 : Fin (k1_t44_loop i v496 v502).trips) : Fin 2 → Nat :=
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let c256_i32_431 : BitVec 32 := 256#32
  let c0_i32_430 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c0_i32_429 : BitVec 32 := 0#32
  let v818 : BitVec 32 := Scalar.subi v506 c0_i32_429
  let v819 : BitVec 32 := Scalar.maxsi c0_i32_430 v818
  let v820 : BitVec 32 := Scalar.minsi c256_i32_431 v819
  let v1805 : BitVec 32 := Scalar.subi v820 v817
  let c1_i32_1196 : BitVec 32 := 1#32
  let v1807 : BitVec 32 := Scalar.divsi v1805 c1_i32_1196
  let v1808 : BitVec 32 := Scalar.muli v1807 c1_i32_1196
  let v1809 : BitVec 32 := Scalar.addi v817 v1808
  let c1_i32_1198 : BitVec 32 := 1#32
  let arg13 : BitVec 32 := Scf.iv v1809 c1_i32_1198 k1_t44
  let v1828 : Index := Scalar.indexCast arg13
  let c64 : Index := 64#32
  ![v1828.toNat, 64]
def k1_off175 (i : grid1.Coords) (v496 : BitVec 32) (v502 : BitVec 32) (k1_t44 : Fin (k1_t44_loop i v496 v502).trips) : Fin 2 → Nat :=
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let c256_i32_431 : BitVec 32 := 256#32
  let c0_i32_430 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c0_i32_429 : BitVec 32 := 0#32
  let v818 : BitVec 32 := Scalar.subi v506 c0_i32_429
  let v819 : BitVec 32 := Scalar.maxsi c0_i32_430 v818
  let v820 : BitVec 32 := Scalar.minsi c256_i32_431 v819
  let v1805 : BitVec 32 := Scalar.subi v820 v817
  let c1_i32_1196 : BitVec 32 := 1#32
  let v1807 : BitVec 32 := Scalar.divsi v1805 c1_i32_1196
  let v1808 : BitVec 32 := Scalar.muli v1807 c1_i32_1196
  let v1809 : BitVec 32 := Scalar.addi v817 v1808
  let c1_i32_1198 : BitVec 32 := 1#32
  let arg13 : BitVec 32 := Scf.iv v1809 c1_i32_1198 k1_t44
  let v1832 : Index := Scalar.indexCast arg13
  let c80 : Index := 80#32
  ![v1832.toNat, 80]
def k1_off176 (i : grid1.Coords) (v496 : BitVec 32) (v502 : BitVec 32) (k1_t44 : Fin (k1_t44_loop i v496 v502).trips) : Fin 2 → Nat :=
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let c256_i32_431 : BitVec 32 := 256#32
  let c0_i32_430 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c0_i32_429 : BitVec 32 := 0#32
  let v818 : BitVec 32 := Scalar.subi v506 c0_i32_429
  let v819 : BitVec 32 := Scalar.maxsi c0_i32_430 v818
  let v820 : BitVec 32 := Scalar.minsi c256_i32_431 v819
  let v1805 : BitVec 32 := Scalar.subi v820 v817
  let c1_i32_1196 : BitVec 32 := 1#32
  let v1807 : BitVec 32 := Scalar.divsi v1805 c1_i32_1196
  let v1808 : BitVec 32 := Scalar.muli v1807 c1_i32_1196
  let v1809 : BitVec 32 := Scalar.addi v817 v1808
  let c1_i32_1198 : BitVec 32 := 1#32
  let arg13 : BitVec 32 := Scf.iv v1809 c1_i32_1198 k1_t44
  let v1836 : Index := Scalar.indexCast arg13
  let c96 : Index := 96#32
  ![v1836.toNat, 96]
def k1_off177 (i : grid1.Coords) (v496 : BitVec 32) (v502 : BitVec 32) (k1_t44 : Fin (k1_t44_loop i v496 v502).trips) : Fin 2 → Nat :=
  let c256_i32_428 : BitVec 32 := 256#32
  let c0_i32_427 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c0_i32_426 : BitVec 32 := 0#32
  let v815 : BitVec 32 := Scalar.subi v500 c0_i32_426
  let v816 : BitVec 32 := Scalar.maxsi c0_i32_427 v815
  let v817 : BitVec 32 := Scalar.minsi c256_i32_428 v816
  let c256_i32_431 : BitVec 32 := 256#32
  let c0_i32_430 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c0_i32_429 : BitVec 32 := 0#32
  let v818 : BitVec 32 := Scalar.subi v506 c0_i32_429
  let v819 : BitVec 32 := Scalar.maxsi c0_i32_430 v818
  let v820 : BitVec 32 := Scalar.minsi c256_i32_431 v819
  let v1805 : BitVec 32 := Scalar.subi v820 v817
  let c1_i32_1196 : BitVec 32 := 1#32
  let v1807 : BitVec 32 := Scalar.divsi v1805 c1_i32_1196
  let v1808 : BitVec 32 := Scalar.muli v1807 c1_i32_1196
  let v1809 : BitVec 32 := Scalar.addi v817 v1808
  let c1_i32_1198 : BitVec 32 := 1#32
  let arg13 : BitVec 32 := Scf.iv v1809 c1_i32_1198 k1_t44
  let v1840 : Index := Scalar.indexCast arg13
  let c112 : Index := 112#32
  ![v1840.toNat, 112]
@[reducible] def k1_t45_loop (i : grid1.Coords) (v508 : BitVec 32) (v513 : BitVec 32) : Scf.Loop 32 :=
  let c256_i32_435 : BitVec 32 := 256#32
  let c0_i32_434 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let c256_i32_438 : BitVec 32 := 256#32
  let c0_i32_437 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c0_i32_436 : BitVec 32 := 0#32
  let v827 : BitVec 32 := Scalar.subi v516 c0_i32_436
  let v828 : BitVec 32 := Scalar.maxsi c0_i32_437 v827
  let v829 : BitVec 32 := Scalar.minsi c256_i32_438 v828
  let v1805 : BitVec 32 := Scalar.subi v829 v826
  let c1_i32_1196 : BitVec 32 := 1#32
  let v1807 : BitVec 32 := Scalar.divsi v1805 c1_i32_1196
  let v1808 : BitVec 32 := Scalar.muli v1807 c1_i32_1196
  let v1809 : BitVec 32 := Scalar.addi v826 v1808
  let c1_i32_1197 : BitVec 32 := 1#32
  ⟨v826, v1809, c1_i32_1197⟩
def k1_cond23 (i : grid1.Coords) (v508 : BitVec 32) (v513 : BitVec 32) : BitVec 1 :=
  let c256_i32_438 : BitVec 32 := 256#32
  let c0_i32_437 : BitVec 32 := 0#32
  let c1024_i32_224 : BitVec 32 := 1024#32
  let c0_i32_223 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v514 : BitVec 32 := Scalar.subi v513 v3
  let v515 : BitVec 32 := Scalar.maxsi c0_i32_223 v514
  let v516 : BitVec 32 := Scalar.minsi c1024_i32_224 v515
  let c0_i32_436 : BitVec 32 := 0#32
  let v827 : BitVec 32 := Scalar.subi v516 c0_i32_436
  let v828 : BitVec 32 := Scalar.maxsi c0_i32_437 v827
  let v829 : BitVec 32 := Scalar.minsi c256_i32_438 v828
  let c256_i32_435 : BitVec 32 := 256#32
  let c0_i32_434 : BitVec 32 := 0#32
  let c1024_i32_222 : BitVec 32 := 1024#32
  let c0_i32_221 : BitVec 32 := 0#32
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let v830 : BitVec 1 := Scalar.cmpi .sgt v829 v826
  let v831 : BitVec 32 := Scalar.extui v830
  let c0_i32_439 : BitVec 32 := 0#32
  let v832 : BitVec 1 := Scalar.cmpi .ne v831 c0_i32_439
  v832

def k1_off178 (i : grid1.Coords) (v508 : BitVec 32) (v513 : BitVec 32) (k1_t45 : Fin (k1_t45_loop i v508 v513).trips) : Fin 2 → Nat :=
  let c256_i32_435 : BitVec 32 := 256#32
  let c0_i32_434 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let c1_i32_1197 : BitVec 32 := 1#32
  let arg13 : BitVec 32 := Scf.iv v826 c1_i32_1197 k1_t45
  let v1828 : Index := Scalar.indexCast arg13
  let c0_1207 : Index := 0#32
  ![v1828.toNat, 0]
def k1_off179 (i : grid1.Coords) (v508 : BitVec 32) (v513 : BitVec 32) (k1_t45 : Fin (k1_t45_loop i v508 v513).trips) : Fin 2 → Nat :=
  let c256_i32_435 : BitVec 32 := 256#32
  let c0_i32_434 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let c1_i32_1197 : BitVec 32 := 1#32
  let arg13 : BitVec 32 := Scf.iv v826 c1_i32_1197 k1_t45
  let v1832 : Index := Scalar.indexCast arg13
  let c16_1208 : Index := 16#32
  ![v1832.toNat, 16]
def k1_off180 (i : grid1.Coords) (v508 : BitVec 32) (v513 : BitVec 32) (k1_t45 : Fin (k1_t45_loop i v508 v513).trips) : Fin 2 → Nat :=
  let c256_i32_435 : BitVec 32 := 256#32
  let c0_i32_434 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let c1_i32_1197 : BitVec 32 := 1#32
  let arg13 : BitVec 32 := Scf.iv v826 c1_i32_1197 k1_t45
  let v1836 : Index := Scalar.indexCast arg13
  let c32_1209 : Index := 32#32
  ![v1836.toNat, 32]
def k1_off181 (i : grid1.Coords) (v508 : BitVec 32) (v513 : BitVec 32) (k1_t45 : Fin (k1_t45_loop i v508 v513).trips) : Fin 2 → Nat :=
  let c256_i32_435 : BitVec 32 := 256#32
  let c0_i32_434 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let c1_i32_1197 : BitVec 32 := 1#32
  let arg13 : BitVec 32 := Scf.iv v826 c1_i32_1197 k1_t45
  let v1840 : Index := Scalar.indexCast arg13
  let c48_1210 : Index := 48#32
  ![v1840.toNat, 48]
@[reducible] def k1_t46_loop (i : grid1.Coords) (v508 : BitVec 32) (v513 : BitVec 32) : Scf.Loop 32 :=
  let c256_i32_435 : BitVec 32 := 256#32
  let c0_i32_434 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let c256_i32_438 : BitVec 32 := 256#32
  let c0_i32_437 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c0_i32_436 : BitVec 32 := 0#32
  let v827 : BitVec 32 := Scalar.subi v516 c0_i32_436
  let v828 : BitVec 32 := Scalar.maxsi c0_i32_437 v827
  let v829 : BitVec 32 := Scalar.minsi c256_i32_438 v828
  let v1805 : BitVec 32 := Scalar.subi v829 v826
  let c1_i32_1196 : BitVec 32 := 1#32
  let v1807 : BitVec 32 := Scalar.divsi v1805 c1_i32_1196
  let v1808 : BitVec 32 := Scalar.muli v1807 c1_i32_1196
  let v1809 : BitVec 32 := Scalar.addi v826 v1808
  let v1806 : BitVec 32 := Scalar.addi v826 v1805
  let c1_i32_1198 : BitVec 32 := 1#32
  ⟨v1809, v1806, c1_i32_1198⟩
def k1_off182 (i : grid1.Coords) (v508 : BitVec 32) (v513 : BitVec 32) (k1_t46 : Fin (k1_t46_loop i v508 v513).trips) : Fin 2 → Nat :=
  let c256_i32_435 : BitVec 32 := 256#32
  let c0_i32_434 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let c256_i32_438 : BitVec 32 := 256#32
  let c0_i32_437 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c0_i32_436 : BitVec 32 := 0#32
  let v827 : BitVec 32 := Scalar.subi v516 c0_i32_436
  let v828 : BitVec 32 := Scalar.maxsi c0_i32_437 v827
  let v829 : BitVec 32 := Scalar.minsi c256_i32_438 v828
  let v1805 : BitVec 32 := Scalar.subi v829 v826
  let c1_i32_1196 : BitVec 32 := 1#32
  let v1807 : BitVec 32 := Scalar.divsi v1805 c1_i32_1196
  let v1808 : BitVec 32 := Scalar.muli v1807 c1_i32_1196
  let v1809 : BitVec 32 := Scalar.addi v826 v1808
  let c1_i32_1198 : BitVec 32 := 1#32
  let arg13 : BitVec 32 := Scf.iv v1809 c1_i32_1198 k1_t46
  let v1828 : Index := Scalar.indexCast arg13
  let c0_1207 : Index := 0#32
  ![v1828.toNat, 0]
def k1_off183 (i : grid1.Coords) (v508 : BitVec 32) (v513 : BitVec 32) (k1_t46 : Fin (k1_t46_loop i v508 v513).trips) : Fin 2 → Nat :=
  let c256_i32_435 : BitVec 32 := 256#32
  let c0_i32_434 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let c256_i32_438 : BitVec 32 := 256#32
  let c0_i32_437 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c0_i32_436 : BitVec 32 := 0#32
  let v827 : BitVec 32 := Scalar.subi v516 c0_i32_436
  let v828 : BitVec 32 := Scalar.maxsi c0_i32_437 v827
  let v829 : BitVec 32 := Scalar.minsi c256_i32_438 v828
  let v1805 : BitVec 32 := Scalar.subi v829 v826
  let c1_i32_1196 : BitVec 32 := 1#32
  let v1807 : BitVec 32 := Scalar.divsi v1805 c1_i32_1196
  let v1808 : BitVec 32 := Scalar.muli v1807 c1_i32_1196
  let v1809 : BitVec 32 := Scalar.addi v826 v1808
  let c1_i32_1198 : BitVec 32 := 1#32
  let arg13 : BitVec 32 := Scf.iv v1809 c1_i32_1198 k1_t46
  let v1832 : Index := Scalar.indexCast arg13
  let c16_1208 : Index := 16#32
  ![v1832.toNat, 16]
def k1_off184 (i : grid1.Coords) (v508 : BitVec 32) (v513 : BitVec 32) (k1_t46 : Fin (k1_t46_loop i v508 v513).trips) : Fin 2 → Nat :=
  let c256_i32_435 : BitVec 32 := 256#32
  let c0_i32_434 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let c256_i32_438 : BitVec 32 := 256#32
  let c0_i32_437 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c0_i32_436 : BitVec 32 := 0#32
  let v827 : BitVec 32 := Scalar.subi v516 c0_i32_436
  let v828 : BitVec 32 := Scalar.maxsi c0_i32_437 v827
  let v829 : BitVec 32 := Scalar.minsi c256_i32_438 v828
  let v1805 : BitVec 32 := Scalar.subi v829 v826
  let c1_i32_1196 : BitVec 32 := 1#32
  let v1807 : BitVec 32 := Scalar.divsi v1805 c1_i32_1196
  let v1808 : BitVec 32 := Scalar.muli v1807 c1_i32_1196
  let v1809 : BitVec 32 := Scalar.addi v826 v1808
  let c1_i32_1198 : BitVec 32 := 1#32
  let arg13 : BitVec 32 := Scf.iv v1809 c1_i32_1198 k1_t46
  let v1836 : Index := Scalar.indexCast arg13
  let c32_1209 : Index := 32#32
  ![v1836.toNat, 32]
def k1_off185 (i : grid1.Coords) (v508 : BitVec 32) (v513 : BitVec 32) (k1_t46 : Fin (k1_t46_loop i v508 v513).trips) : Fin 2 → Nat :=
  let c256_i32_435 : BitVec 32 := 256#32
  let c0_i32_434 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c0_i32_433 : BitVec 32 := 0#32
  let v824 : BitVec 32 := Scalar.subi v511 c0_i32_433
  let v825 : BitVec 32 := Scalar.maxsi c0_i32_434 v824
  let v826 : BitVec 32 := Scalar.minsi c256_i32_435 v825
  let c256_i32_438 : BitVec 32 := 256#32
  let c0_i32_437 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c0_i32_436 : BitVec 32 := 0#32
  let v827 : BitVec 32 := Scalar.subi v516 c0_i32_436
  let v828 : BitVec 32 := Scalar.maxsi c0_i32_437 v827
  let v829 : BitVec 32 := Scalar.minsi c256_i32_438 v828
  let v1805 : BitVec 32 := Scalar.subi v829 v826
  let c1_i32_1196 : BitVec 32 := 1#32
  let v1807 : BitVec 32 := Scalar.divsi v1805 c1_i32_1196
  let v1808 : BitVec 32 := Scalar.muli v1807 c1_i32_1196
  let v1809 : BitVec 32 := Scalar.addi v826 v1808
  let c1_i32_1198 : BitVec 32 := 1#32
  let arg13 : BitVec 32 := Scf.iv v1809 c1_i32_1198 k1_t46
  let v1840 : Index := Scalar.indexCast arg13
  let c48_1210 : Index := 48#32
  ![v1840.toNat, 48]
@[reducible] def k1_t47_loop (i : grid1.Coords) (v518 : BitVec 32) (v524 : BitVec 32) : Scf.Loop 32 :=
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let c256_i32_445 : BitVec 32 := 256#32
  let c0_i32_444 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c0_i32_443 : BitVec 32 := 0#32
  let v836 : BitVec 32 := Scalar.subi v528 c0_i32_443
  let v837 : BitVec 32 := Scalar.maxsi c0_i32_444 v836
  let v838 : BitVec 32 := Scalar.minsi c256_i32_445 v837
  let v1805 : BitVec 32 := Scalar.subi v838 v835
  let c1_i32_1196 : BitVec 32 := 1#32
  let v1807 : BitVec 32 := Scalar.divsi v1805 c1_i32_1196
  let v1808 : BitVec 32 := Scalar.muli v1807 c1_i32_1196
  let v1809 : BitVec 32 := Scalar.addi v835 v1808
  let c1_i32_1197 : BitVec 32 := 1#32
  ⟨v835, v1809, c1_i32_1197⟩
def k1_cond24 (i : grid1.Coords) (v518 : BitVec 32) (v524 : BitVec 32) : BitVec 1 :=
  let c256_i32_445 : BitVec 32 := 256#32
  let c0_i32_444 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v526 : BitVec 32 := Scalar.subi v525 v3
  let v527 : BitVec 32 := Scalar.maxsi c0_i32_229 v526
  let v528 : BitVec 32 := Scalar.minsi c1024_i32_230 v527
  let c0_i32_443 : BitVec 32 := 0#32
  let v836 : BitVec 32 := Scalar.subi v528 c0_i32_443
  let v837 : BitVec 32 := Scalar.maxsi c0_i32_444 v836
  let v838 : BitVec 32 := Scalar.minsi c256_i32_445 v837
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let v839 : BitVec 1 := Scalar.cmpi .sgt v838 v835
  let v840 : BitVec 32 := Scalar.extui v839
  let c0_i32_446 : BitVec 32 := 0#32
  let v841 : BitVec 1 := Scalar.cmpi .ne v840 c0_i32_446
  v841

def k1_off186 (i : grid1.Coords) (v518 : BitVec 32) (v524 : BitVec 32) (k1_t47 : Fin (k1_t47_loop i v518 v524).trips) : Fin 2 → Nat :=
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let c1_i32_1197 : BitVec 32 := 1#32
  let arg13 : BitVec 32 := Scf.iv v835 c1_i32_1197 k1_t47
  let v1828 : Index := Scalar.indexCast arg13
  let c64 : Index := 64#32
  ![v1828.toNat, 64]
def k1_off187 (i : grid1.Coords) (v518 : BitVec 32) (v524 : BitVec 32) (k1_t47 : Fin (k1_t47_loop i v518 v524).trips) : Fin 2 → Nat :=
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let c1_i32_1197 : BitVec 32 := 1#32
  let arg13 : BitVec 32 := Scf.iv v835 c1_i32_1197 k1_t47
  let v1832 : Index := Scalar.indexCast arg13
  let c80 : Index := 80#32
  ![v1832.toNat, 80]
def k1_off188 (i : grid1.Coords) (v518 : BitVec 32) (v524 : BitVec 32) (k1_t47 : Fin (k1_t47_loop i v518 v524).trips) : Fin 2 → Nat :=
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let c1_i32_1197 : BitVec 32 := 1#32
  let arg13 : BitVec 32 := Scf.iv v835 c1_i32_1197 k1_t47
  let v1836 : Index := Scalar.indexCast arg13
  let c96 : Index := 96#32
  ![v1836.toNat, 96]
def k1_off189 (i : grid1.Coords) (v518 : BitVec 32) (v524 : BitVec 32) (k1_t47 : Fin (k1_t47_loop i v518 v524).trips) : Fin 2 → Nat :=
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let c1_i32_1197 : BitVec 32 := 1#32
  let arg13 : BitVec 32 := Scf.iv v835 c1_i32_1197 k1_t47
  let v1840 : Index := Scalar.indexCast arg13
  let c112 : Index := 112#32
  ![v1840.toNat, 112]
@[reducible] def k1_t48_loop (i : grid1.Coords) (v518 : BitVec 32) (v524 : BitVec 32) : Scf.Loop 32 :=
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let c256_i32_445 : BitVec 32 := 256#32
  let c0_i32_444 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c0_i32_443 : BitVec 32 := 0#32
  let v836 : BitVec 32 := Scalar.subi v528 c0_i32_443
  let v837 : BitVec 32 := Scalar.maxsi c0_i32_444 v836
  let v838 : BitVec 32 := Scalar.minsi c256_i32_445 v837
  let v1805 : BitVec 32 := Scalar.subi v838 v835
  let c1_i32_1196 : BitVec 32 := 1#32
  let v1807 : BitVec 32 := Scalar.divsi v1805 c1_i32_1196
  let v1808 : BitVec 32 := Scalar.muli v1807 c1_i32_1196
  let v1809 : BitVec 32 := Scalar.addi v835 v1808
  let v1806 : BitVec 32 := Scalar.addi v835 v1805
  let c1_i32_1198 : BitVec 32 := 1#32
  ⟨v1809, v1806, c1_i32_1198⟩
def k1_off190 (i : grid1.Coords) (v518 : BitVec 32) (v524 : BitVec 32) (k1_t48 : Fin (k1_t48_loop i v518 v524).trips) : Fin 2 → Nat :=
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let c256_i32_445 : BitVec 32 := 256#32
  let c0_i32_444 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c0_i32_443 : BitVec 32 := 0#32
  let v836 : BitVec 32 := Scalar.subi v528 c0_i32_443
  let v837 : BitVec 32 := Scalar.maxsi c0_i32_444 v836
  let v838 : BitVec 32 := Scalar.minsi c256_i32_445 v837
  let v1805 : BitVec 32 := Scalar.subi v838 v835
  let c1_i32_1196 : BitVec 32 := 1#32
  let v1807 : BitVec 32 := Scalar.divsi v1805 c1_i32_1196
  let v1808 : BitVec 32 := Scalar.muli v1807 c1_i32_1196
  let v1809 : BitVec 32 := Scalar.addi v835 v1808
  let c1_i32_1198 : BitVec 32 := 1#32
  let arg13 : BitVec 32 := Scf.iv v1809 c1_i32_1198 k1_t48
  let v1828 : Index := Scalar.indexCast arg13
  let c64 : Index := 64#32
  ![v1828.toNat, 64]
def k1_off191 (i : grid1.Coords) (v518 : BitVec 32) (v524 : BitVec 32) (k1_t48 : Fin (k1_t48_loop i v518 v524).trips) : Fin 2 → Nat :=
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let c256_i32_445 : BitVec 32 := 256#32
  let c0_i32_444 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c0_i32_443 : BitVec 32 := 0#32
  let v836 : BitVec 32 := Scalar.subi v528 c0_i32_443
  let v837 : BitVec 32 := Scalar.maxsi c0_i32_444 v836
  let v838 : BitVec 32 := Scalar.minsi c256_i32_445 v837
  let v1805 : BitVec 32 := Scalar.subi v838 v835
  let c1_i32_1196 : BitVec 32 := 1#32
  let v1807 : BitVec 32 := Scalar.divsi v1805 c1_i32_1196
  let v1808 : BitVec 32 := Scalar.muli v1807 c1_i32_1196
  let v1809 : BitVec 32 := Scalar.addi v835 v1808
  let c1_i32_1198 : BitVec 32 := 1#32
  let arg13 : BitVec 32 := Scf.iv v1809 c1_i32_1198 k1_t48
  let v1832 : Index := Scalar.indexCast arg13
  let c80 : Index := 80#32
  ![v1832.toNat, 80]
def k1_off192 (i : grid1.Coords) (v518 : BitVec 32) (v524 : BitVec 32) (k1_t48 : Fin (k1_t48_loop i v518 v524).trips) : Fin 2 → Nat :=
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let c256_i32_445 : BitVec 32 := 256#32
  let c0_i32_444 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c0_i32_443 : BitVec 32 := 0#32
  let v836 : BitVec 32 := Scalar.subi v528 c0_i32_443
  let v837 : BitVec 32 := Scalar.maxsi c0_i32_444 v836
  let v838 : BitVec 32 := Scalar.minsi c256_i32_445 v837
  let v1805 : BitVec 32 := Scalar.subi v838 v835
  let c1_i32_1196 : BitVec 32 := 1#32
  let v1807 : BitVec 32 := Scalar.divsi v1805 c1_i32_1196
  let v1808 : BitVec 32 := Scalar.muli v1807 c1_i32_1196
  let v1809 : BitVec 32 := Scalar.addi v835 v1808
  let c1_i32_1198 : BitVec 32 := 1#32
  let arg13 : BitVec 32 := Scf.iv v1809 c1_i32_1198 k1_t48
  let v1836 : Index := Scalar.indexCast arg13
  let c96 : Index := 96#32
  ![v1836.toNat, 96]
def k1_off193 (i : grid1.Coords) (v518 : BitVec 32) (v524 : BitVec 32) (k1_t48 : Fin (k1_t48_loop i v518 v524).trips) : Fin 2 → Nat :=
  let c256_i32_442 : BitVec 32 := 256#32
  let c0_i32_441 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c0_i32_440 : BitVec 32 := 0#32
  let v833 : BitVec 32 := Scalar.subi v522 c0_i32_440
  let v834 : BitVec 32 := Scalar.maxsi c0_i32_441 v833
  let v835 : BitVec 32 := Scalar.minsi c256_i32_442 v834
  let c256_i32_445 : BitVec 32 := 256#32
  let c0_i32_444 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c0_i32_443 : BitVec 32 := 0#32
  let v836 : BitVec 32 := Scalar.subi v528 c0_i32_443
  let v837 : BitVec 32 := Scalar.maxsi c0_i32_444 v836
  let v838 : BitVec 32 := Scalar.minsi c256_i32_445 v837
  let v1805 : BitVec 32 := Scalar.subi v838 v835
  let c1_i32_1196 : BitVec 32 := 1#32
  let v1807 : BitVec 32 := Scalar.divsi v1805 c1_i32_1196
  let v1808 : BitVec 32 := Scalar.muli v1807 c1_i32_1196
  let v1809 : BitVec 32 := Scalar.addi v835 v1808
  let c1_i32_1198 : BitVec 32 := 1#32
  let arg13 : BitVec 32 := Scf.iv v1809 c1_i32_1198 k1_t48
  let v1840 : Index := Scalar.indexCast arg13
  let c112 : Index := 112#32
  ![v1840.toNat, 112]
@[reducible] def k1_t49_loop (i : grid1.Coords) (v530 : BitVec 32) (v535 : BitVec 32) : Scf.Loop 32 :=
  let c256_i32_449 : BitVec 32 := 256#32
  let c0_i32_448 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let c256_i32_452 : BitVec 32 := 256#32
  let c0_i32_451 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c0_i32_450 : BitVec 32 := 0#32
  let v845 : BitVec 32 := Scalar.subi v538 c0_i32_450
  let v846 : BitVec 32 := Scalar.maxsi c0_i32_451 v845
  let v847 : BitVec 32 := Scalar.minsi c256_i32_452 v846
  let v1805 : BitVec 32 := Scalar.subi v847 v844
  let c1_i32_1196 : BitVec 32 := 1#32
  let v1807 : BitVec 32 := Scalar.divsi v1805 c1_i32_1196
  let v1808 : BitVec 32 := Scalar.muli v1807 c1_i32_1196
  let v1809 : BitVec 32 := Scalar.addi v844 v1808
  let c1_i32_1197 : BitVec 32 := 1#32
  ⟨v844, v1809, c1_i32_1197⟩
def k1_cond25 (i : grid1.Coords) (v530 : BitVec 32) (v535 : BitVec 32) : BitVec 1 :=
  let c256_i32_452 : BitVec 32 := 256#32
  let c0_i32_451 : BitVec 32 := 0#32
  let c1024_i32_234 : BitVec 32 := 1024#32
  let c0_i32_233 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v536 : BitVec 32 := Scalar.subi v535 v3
  let v537 : BitVec 32 := Scalar.maxsi c0_i32_233 v536
  let v538 : BitVec 32 := Scalar.minsi c1024_i32_234 v537
  let c0_i32_450 : BitVec 32 := 0#32
  let v845 : BitVec 32 := Scalar.subi v538 c0_i32_450
  let v846 : BitVec 32 := Scalar.maxsi c0_i32_451 v845
  let v847 : BitVec 32 := Scalar.minsi c256_i32_452 v846
  let c256_i32_449 : BitVec 32 := 256#32
  let c0_i32_448 : BitVec 32 := 0#32
  let c1024_i32_232 : BitVec 32 := 1024#32
  let c0_i32_231 : BitVec 32 := 0#32
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let v848 : BitVec 1 := Scalar.cmpi .sgt v847 v844
  let v849 : BitVec 32 := Scalar.extui v848
  let c0_i32_453 : BitVec 32 := 0#32
  let v850 : BitVec 1 := Scalar.cmpi .ne v849 c0_i32_453
  v850

def k1_off194 (i : grid1.Coords) (v530 : BitVec 32) (v535 : BitVec 32) (k1_t49 : Fin (k1_t49_loop i v530 v535).trips) : Fin 2 → Nat :=
  let c256_i32_449 : BitVec 32 := 256#32
  let c0_i32_448 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let c1_i32_1197 : BitVec 32 := 1#32
  let arg13 : BitVec 32 := Scf.iv v844 c1_i32_1197 k1_t49
  let v1828 : Index := Scalar.indexCast arg13
  let c0_1207 : Index := 0#32
  ![v1828.toNat, 0]
def k1_off195 (i : grid1.Coords) (v530 : BitVec 32) (v535 : BitVec 32) (k1_t49 : Fin (k1_t49_loop i v530 v535).trips) : Fin 2 → Nat :=
  let c256_i32_449 : BitVec 32 := 256#32
  let c0_i32_448 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let c1_i32_1197 : BitVec 32 := 1#32
  let arg13 : BitVec 32 := Scf.iv v844 c1_i32_1197 k1_t49
  let v1832 : Index := Scalar.indexCast arg13
  let c16_1208 : Index := 16#32
  ![v1832.toNat, 16]
def k1_off196 (i : grid1.Coords) (v530 : BitVec 32) (v535 : BitVec 32) (k1_t49 : Fin (k1_t49_loop i v530 v535).trips) : Fin 2 → Nat :=
  let c256_i32_449 : BitVec 32 := 256#32
  let c0_i32_448 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let c1_i32_1197 : BitVec 32 := 1#32
  let arg13 : BitVec 32 := Scf.iv v844 c1_i32_1197 k1_t49
  let v1836 : Index := Scalar.indexCast arg13
  let c32_1209 : Index := 32#32
  ![v1836.toNat, 32]
def k1_off197 (i : grid1.Coords) (v530 : BitVec 32) (v535 : BitVec 32) (k1_t49 : Fin (k1_t49_loop i v530 v535).trips) : Fin 2 → Nat :=
  let c256_i32_449 : BitVec 32 := 256#32
  let c0_i32_448 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let c1_i32_1197 : BitVec 32 := 1#32
  let arg13 : BitVec 32 := Scf.iv v844 c1_i32_1197 k1_t49
  let v1840 : Index := Scalar.indexCast arg13
  let c48_1210 : Index := 48#32
  ![v1840.toNat, 48]
@[reducible] def k1_t50_loop (i : grid1.Coords) (v530 : BitVec 32) (v535 : BitVec 32) : Scf.Loop 32 :=
  let c256_i32_449 : BitVec 32 := 256#32
  let c0_i32_448 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let c256_i32_452 : BitVec 32 := 256#32
  let c0_i32_451 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c0_i32_450 : BitVec 32 := 0#32
  let v845 : BitVec 32 := Scalar.subi v538 c0_i32_450
  let v846 : BitVec 32 := Scalar.maxsi c0_i32_451 v845
  let v847 : BitVec 32 := Scalar.minsi c256_i32_452 v846
  let v1805 : BitVec 32 := Scalar.subi v847 v844
  let c1_i32_1196 : BitVec 32 := 1#32
  let v1807 : BitVec 32 := Scalar.divsi v1805 c1_i32_1196
  let v1808 : BitVec 32 := Scalar.muli v1807 c1_i32_1196
  let v1809 : BitVec 32 := Scalar.addi v844 v1808
  let v1806 : BitVec 32 := Scalar.addi v844 v1805
  let c1_i32_1198 : BitVec 32 := 1#32
  ⟨v1809, v1806, c1_i32_1198⟩
def k1_off198 (i : grid1.Coords) (v530 : BitVec 32) (v535 : BitVec 32) (k1_t50 : Fin (k1_t50_loop i v530 v535).trips) : Fin 2 → Nat :=
  let c256_i32_449 : BitVec 32 := 256#32
  let c0_i32_448 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let c256_i32_452 : BitVec 32 := 256#32
  let c0_i32_451 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c0_i32_450 : BitVec 32 := 0#32
  let v845 : BitVec 32 := Scalar.subi v538 c0_i32_450
  let v846 : BitVec 32 := Scalar.maxsi c0_i32_451 v845
  let v847 : BitVec 32 := Scalar.minsi c256_i32_452 v846
  let v1805 : BitVec 32 := Scalar.subi v847 v844
  let c1_i32_1196 : BitVec 32 := 1#32
  let v1807 : BitVec 32 := Scalar.divsi v1805 c1_i32_1196
  let v1808 : BitVec 32 := Scalar.muli v1807 c1_i32_1196
  let v1809 : BitVec 32 := Scalar.addi v844 v1808
  let c1_i32_1198 : BitVec 32 := 1#32
  let arg13 : BitVec 32 := Scf.iv v1809 c1_i32_1198 k1_t50
  let v1828 : Index := Scalar.indexCast arg13
  let c0_1207 : Index := 0#32
  ![v1828.toNat, 0]
def k1_off199 (i : grid1.Coords) (v530 : BitVec 32) (v535 : BitVec 32) (k1_t50 : Fin (k1_t50_loop i v530 v535).trips) : Fin 2 → Nat :=
  let c256_i32_449 : BitVec 32 := 256#32
  let c0_i32_448 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let c256_i32_452 : BitVec 32 := 256#32
  let c0_i32_451 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c0_i32_450 : BitVec 32 := 0#32
  let v845 : BitVec 32 := Scalar.subi v538 c0_i32_450
  let v846 : BitVec 32 := Scalar.maxsi c0_i32_451 v845
  let v847 : BitVec 32 := Scalar.minsi c256_i32_452 v846
  let v1805 : BitVec 32 := Scalar.subi v847 v844
  let c1_i32_1196 : BitVec 32 := 1#32
  let v1807 : BitVec 32 := Scalar.divsi v1805 c1_i32_1196
  let v1808 : BitVec 32 := Scalar.muli v1807 c1_i32_1196
  let v1809 : BitVec 32 := Scalar.addi v844 v1808
  let c1_i32_1198 : BitVec 32 := 1#32
  let arg13 : BitVec 32 := Scf.iv v1809 c1_i32_1198 k1_t50
  let v1832 : Index := Scalar.indexCast arg13
  let c16_1208 : Index := 16#32
  ![v1832.toNat, 16]
def k1_off200 (i : grid1.Coords) (v530 : BitVec 32) (v535 : BitVec 32) (k1_t50 : Fin (k1_t50_loop i v530 v535).trips) : Fin 2 → Nat :=
  let c256_i32_449 : BitVec 32 := 256#32
  let c0_i32_448 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let c256_i32_452 : BitVec 32 := 256#32
  let c0_i32_451 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c0_i32_450 : BitVec 32 := 0#32
  let v845 : BitVec 32 := Scalar.subi v538 c0_i32_450
  let v846 : BitVec 32 := Scalar.maxsi c0_i32_451 v845
  let v847 : BitVec 32 := Scalar.minsi c256_i32_452 v846
  let v1805 : BitVec 32 := Scalar.subi v847 v844
  let c1_i32_1196 : BitVec 32 := 1#32
  let v1807 : BitVec 32 := Scalar.divsi v1805 c1_i32_1196
  let v1808 : BitVec 32 := Scalar.muli v1807 c1_i32_1196
  let v1809 : BitVec 32 := Scalar.addi v844 v1808
  let c1_i32_1198 : BitVec 32 := 1#32
  let arg13 : BitVec 32 := Scf.iv v1809 c1_i32_1198 k1_t50
  let v1836 : Index := Scalar.indexCast arg13
  let c32_1209 : Index := 32#32
  ![v1836.toNat, 32]
def k1_off201 (i : grid1.Coords) (v530 : BitVec 32) (v535 : BitVec 32) (k1_t50 : Fin (k1_t50_loop i v530 v535).trips) : Fin 2 → Nat :=
  let c256_i32_449 : BitVec 32 := 256#32
  let c0_i32_448 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c0_i32_447 : BitVec 32 := 0#32
  let v842 : BitVec 32 := Scalar.subi v533 c0_i32_447
  let v843 : BitVec 32 := Scalar.maxsi c0_i32_448 v842
  let v844 : BitVec 32 := Scalar.minsi c256_i32_449 v843
  let c256_i32_452 : BitVec 32 := 256#32
  let c0_i32_451 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c0_i32_450 : BitVec 32 := 0#32
  let v845 : BitVec 32 := Scalar.subi v538 c0_i32_450
  let v846 : BitVec 32 := Scalar.maxsi c0_i32_451 v845
  let v847 : BitVec 32 := Scalar.minsi c256_i32_452 v846
  let v1805 : BitVec 32 := Scalar.subi v847 v844
  let c1_i32_1196 : BitVec 32 := 1#32
  let v1807 : BitVec 32 := Scalar.divsi v1805 c1_i32_1196
  let v1808 : BitVec 32 := Scalar.muli v1807 c1_i32_1196
  let v1809 : BitVec 32 := Scalar.addi v844 v1808
  let c1_i32_1198 : BitVec 32 := 1#32
  let arg13 : BitVec 32 := Scf.iv v1809 c1_i32_1198 k1_t50
  let v1840 : Index := Scalar.indexCast arg13
  let c48_1210 : Index := 48#32
  ![v1840.toNat, 48]
@[reducible] def k1_t51_loop (i : grid1.Coords) (v540 : BitVec 32) (v546 : BitVec 32) : Scf.Loop 32 :=
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let c256_i32_459 : BitVec 32 := 256#32
  let c0_i32_458 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c0_i32_457 : BitVec 32 := 0#32
  let v854 : BitVec 32 := Scalar.subi v550 c0_i32_457
  let v855 : BitVec 32 := Scalar.maxsi c0_i32_458 v854
  let v856 : BitVec 32 := Scalar.minsi c256_i32_459 v855
  let v1805 : BitVec 32 := Scalar.subi v856 v853
  let c1_i32_1196 : BitVec 32 := 1#32
  let v1807 : BitVec 32 := Scalar.divsi v1805 c1_i32_1196
  let v1808 : BitVec 32 := Scalar.muli v1807 c1_i32_1196
  let v1809 : BitVec 32 := Scalar.addi v853 v1808
  let c1_i32_1197 : BitVec 32 := 1#32
  ⟨v853, v1809, c1_i32_1197⟩
def k1_cond26 (i : grid1.Coords) (v540 : BitVec 32) (v546 : BitVec 32) : BitVec 1 :=
  let c256_i32_459 : BitVec 32 := 256#32
  let c0_i32_458 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v548 : BitVec 32 := Scalar.subi v547 v3
  let v549 : BitVec 32 := Scalar.maxsi c0_i32_239 v548
  let v550 : BitVec 32 := Scalar.minsi c1024_i32_240 v549
  let c0_i32_457 : BitVec 32 := 0#32
  let v854 : BitVec 32 := Scalar.subi v550 c0_i32_457
  let v855 : BitVec 32 := Scalar.maxsi c0_i32_458 v854
  let v856 : BitVec 32 := Scalar.minsi c256_i32_459 v855
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let v857 : BitVec 1 := Scalar.cmpi .sgt v856 v853
  let v858 : BitVec 32 := Scalar.extui v857
  let c0_i32_460 : BitVec 32 := 0#32
  let v859 : BitVec 1 := Scalar.cmpi .ne v858 c0_i32_460
  v859

def k1_off202 (i : grid1.Coords) (v540 : BitVec 32) (v546 : BitVec 32) (k1_t51 : Fin (k1_t51_loop i v540 v546).trips) : Fin 2 → Nat :=
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let c1_i32_1197 : BitVec 32 := 1#32
  let arg13 : BitVec 32 := Scf.iv v853 c1_i32_1197 k1_t51
  let v1828 : Index := Scalar.indexCast arg13
  let c64 : Index := 64#32
  ![v1828.toNat, 64]
def k1_off203 (i : grid1.Coords) (v540 : BitVec 32) (v546 : BitVec 32) (k1_t51 : Fin (k1_t51_loop i v540 v546).trips) : Fin 2 → Nat :=
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let c1_i32_1197 : BitVec 32 := 1#32
  let arg13 : BitVec 32 := Scf.iv v853 c1_i32_1197 k1_t51
  let v1832 : Index := Scalar.indexCast arg13
  let c80 : Index := 80#32
  ![v1832.toNat, 80]
def k1_off204 (i : grid1.Coords) (v540 : BitVec 32) (v546 : BitVec 32) (k1_t51 : Fin (k1_t51_loop i v540 v546).trips) : Fin 2 → Nat :=
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let c1_i32_1197 : BitVec 32 := 1#32
  let arg13 : BitVec 32 := Scf.iv v853 c1_i32_1197 k1_t51
  let v1836 : Index := Scalar.indexCast arg13
  let c96 : Index := 96#32
  ![v1836.toNat, 96]
def k1_off205 (i : grid1.Coords) (v540 : BitVec 32) (v546 : BitVec 32) (k1_t51 : Fin (k1_t51_loop i v540 v546).trips) : Fin 2 → Nat :=
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let c1_i32_1197 : BitVec 32 := 1#32
  let arg13 : BitVec 32 := Scf.iv v853 c1_i32_1197 k1_t51
  let v1840 : Index := Scalar.indexCast arg13
  let c112 : Index := 112#32
  ![v1840.toNat, 112]
@[reducible] def k1_t52_loop (i : grid1.Coords) (v540 : BitVec 32) (v546 : BitVec 32) : Scf.Loop 32 :=
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let c256_i32_459 : BitVec 32 := 256#32
  let c0_i32_458 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c0_i32_457 : BitVec 32 := 0#32
  let v854 : BitVec 32 := Scalar.subi v550 c0_i32_457
  let v855 : BitVec 32 := Scalar.maxsi c0_i32_458 v854
  let v856 : BitVec 32 := Scalar.minsi c256_i32_459 v855
  let v1805 : BitVec 32 := Scalar.subi v856 v853
  let c1_i32_1196 : BitVec 32 := 1#32
  let v1807 : BitVec 32 := Scalar.divsi v1805 c1_i32_1196
  let v1808 : BitVec 32 := Scalar.muli v1807 c1_i32_1196
  let v1809 : BitVec 32 := Scalar.addi v853 v1808
  let v1806 : BitVec 32 := Scalar.addi v853 v1805
  let c1_i32_1198 : BitVec 32 := 1#32
  ⟨v1809, v1806, c1_i32_1198⟩
def k1_off206 (i : grid1.Coords) (v540 : BitVec 32) (v546 : BitVec 32) (k1_t52 : Fin (k1_t52_loop i v540 v546).trips) : Fin 2 → Nat :=
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let c256_i32_459 : BitVec 32 := 256#32
  let c0_i32_458 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c0_i32_457 : BitVec 32 := 0#32
  let v854 : BitVec 32 := Scalar.subi v550 c0_i32_457
  let v855 : BitVec 32 := Scalar.maxsi c0_i32_458 v854
  let v856 : BitVec 32 := Scalar.minsi c256_i32_459 v855
  let v1805 : BitVec 32 := Scalar.subi v856 v853
  let c1_i32_1196 : BitVec 32 := 1#32
  let v1807 : BitVec 32 := Scalar.divsi v1805 c1_i32_1196
  let v1808 : BitVec 32 := Scalar.muli v1807 c1_i32_1196
  let v1809 : BitVec 32 := Scalar.addi v853 v1808
  let c1_i32_1198 : BitVec 32 := 1#32
  let arg13 : BitVec 32 := Scf.iv v1809 c1_i32_1198 k1_t52
  let v1828 : Index := Scalar.indexCast arg13
  let c64 : Index := 64#32
  ![v1828.toNat, 64]
def k1_off207 (i : grid1.Coords) (v540 : BitVec 32) (v546 : BitVec 32) (k1_t52 : Fin (k1_t52_loop i v540 v546).trips) : Fin 2 → Nat :=
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let c256_i32_459 : BitVec 32 := 256#32
  let c0_i32_458 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c0_i32_457 : BitVec 32 := 0#32
  let v854 : BitVec 32 := Scalar.subi v550 c0_i32_457
  let v855 : BitVec 32 := Scalar.maxsi c0_i32_458 v854
  let v856 : BitVec 32 := Scalar.minsi c256_i32_459 v855
  let v1805 : BitVec 32 := Scalar.subi v856 v853
  let c1_i32_1196 : BitVec 32 := 1#32
  let v1807 : BitVec 32 := Scalar.divsi v1805 c1_i32_1196
  let v1808 : BitVec 32 := Scalar.muli v1807 c1_i32_1196
  let v1809 : BitVec 32 := Scalar.addi v853 v1808
  let c1_i32_1198 : BitVec 32 := 1#32
  let arg13 : BitVec 32 := Scf.iv v1809 c1_i32_1198 k1_t52
  let v1832 : Index := Scalar.indexCast arg13
  let c80 : Index := 80#32
  ![v1832.toNat, 80]
def k1_off208 (i : grid1.Coords) (v540 : BitVec 32) (v546 : BitVec 32) (k1_t52 : Fin (k1_t52_loop i v540 v546).trips) : Fin 2 → Nat :=
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let c256_i32_459 : BitVec 32 := 256#32
  let c0_i32_458 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c0_i32_457 : BitVec 32 := 0#32
  let v854 : BitVec 32 := Scalar.subi v550 c0_i32_457
  let v855 : BitVec 32 := Scalar.maxsi c0_i32_458 v854
  let v856 : BitVec 32 := Scalar.minsi c256_i32_459 v855
  let v1805 : BitVec 32 := Scalar.subi v856 v853
  let c1_i32_1196 : BitVec 32 := 1#32
  let v1807 : BitVec 32 := Scalar.divsi v1805 c1_i32_1196
  let v1808 : BitVec 32 := Scalar.muli v1807 c1_i32_1196
  let v1809 : BitVec 32 := Scalar.addi v853 v1808
  let c1_i32_1198 : BitVec 32 := 1#32
  let arg13 : BitVec 32 := Scf.iv v1809 c1_i32_1198 k1_t52
  let v1836 : Index := Scalar.indexCast arg13
  let c96 : Index := 96#32
  ![v1836.toNat, 96]
def k1_off209 (i : grid1.Coords) (v540 : BitVec 32) (v546 : BitVec 32) (k1_t52 : Fin (k1_t52_loop i v540 v546).trips) : Fin 2 → Nat :=
  let c256_i32_456 : BitVec 32 := 256#32
  let c0_i32_455 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c0_i32_454 : BitVec 32 := 0#32
  let v851 : BitVec 32 := Scalar.subi v544 c0_i32_454
  let v852 : BitVec 32 := Scalar.maxsi c0_i32_455 v851
  let v853 : BitVec 32 := Scalar.minsi c256_i32_456 v852
  let c256_i32_459 : BitVec 32 := 256#32
  let c0_i32_458 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c0_i32_457 : BitVec 32 := 0#32
  let v854 : BitVec 32 := Scalar.subi v550 c0_i32_457
  let v855 : BitVec 32 := Scalar.maxsi c0_i32_458 v854
  let v856 : BitVec 32 := Scalar.minsi c256_i32_459 v855
  let v1805 : BitVec 32 := Scalar.subi v856 v853
  let c1_i32_1196 : BitVec 32 := 1#32
  let v1807 : BitVec 32 := Scalar.divsi v1805 c1_i32_1196
  let v1808 : BitVec 32 := Scalar.muli v1807 c1_i32_1196
  let v1809 : BitVec 32 := Scalar.addi v853 v1808
  let c1_i32_1198 : BitVec 32 := 1#32
  let arg13 : BitVec 32 := Scf.iv v1809 c1_i32_1198 k1_t52
  let v1840 : Index := Scalar.indexCast arg13
  let c112 : Index := 112#32
  ![v1840.toNat, 112]
@[reducible] def k1_t53_loop (i : grid1.Coords) (v552 : BitVec 32) (v557 : BitVec 32) : Scf.Loop 32 :=
  let c256_i32_463 : BitVec 32 := 256#32
  let c0_i32_462 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let c256_i32_466 : BitVec 32 := 256#32
  let c0_i32_465 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c0_i32_464 : BitVec 32 := 0#32
  let v863 : BitVec 32 := Scalar.subi v560 c0_i32_464
  let v864 : BitVec 32 := Scalar.maxsi c0_i32_465 v863
  let v865 : BitVec 32 := Scalar.minsi c256_i32_466 v864
  let v1805 : BitVec 32 := Scalar.subi v865 v862
  let c1_i32_1196 : BitVec 32 := 1#32
  let v1807 : BitVec 32 := Scalar.divsi v1805 c1_i32_1196
  let v1808 : BitVec 32 := Scalar.muli v1807 c1_i32_1196
  let v1809 : BitVec 32 := Scalar.addi v862 v1808
  let c1_i32_1197 : BitVec 32 := 1#32
  ⟨v862, v1809, c1_i32_1197⟩
def k1_cond27 (i : grid1.Coords) (v552 : BitVec 32) (v557 : BitVec 32) : BitVec 1 :=
  let c256_i32_466 : BitVec 32 := 256#32
  let c0_i32_465 : BitVec 32 := 0#32
  let c1024_i32_244 : BitVec 32 := 1024#32
  let c0_i32_243 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v558 : BitVec 32 := Scalar.subi v557 v3
  let v559 : BitVec 32 := Scalar.maxsi c0_i32_243 v558
  let v560 : BitVec 32 := Scalar.minsi c1024_i32_244 v559
  let c0_i32_464 : BitVec 32 := 0#32
  let v863 : BitVec 32 := Scalar.subi v560 c0_i32_464
  let v864 : BitVec 32 := Scalar.maxsi c0_i32_465 v863
  let v865 : BitVec 32 := Scalar.minsi c256_i32_466 v864
  let c256_i32_463 : BitVec 32 := 256#32
  let c0_i32_462 : BitVec 32 := 0#32
  let c1024_i32_242 : BitVec 32 := 1024#32
  let c0_i32_241 : BitVec 32 := 0#32
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let v866 : BitVec 1 := Scalar.cmpi .sgt v865 v862
  let v867 : BitVec 32 := Scalar.extui v866
  let c0_i32_467 : BitVec 32 := 0#32
  let v868 : BitVec 1 := Scalar.cmpi .ne v867 c0_i32_467
  v868

def k1_off210 (i : grid1.Coords) (v552 : BitVec 32) (v557 : BitVec 32) (k1_t53 : Fin (k1_t53_loop i v552 v557).trips) : Fin 2 → Nat :=
  let c256_i32_463 : BitVec 32 := 256#32
  let c0_i32_462 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let c1_i32_1197 : BitVec 32 := 1#32
  let arg13 : BitVec 32 := Scf.iv v862 c1_i32_1197 k1_t53
  let v1828 : Index := Scalar.indexCast arg13
  let c0_1207 : Index := 0#32
  ![v1828.toNat, 0]
def k1_off211 (i : grid1.Coords) (v552 : BitVec 32) (v557 : BitVec 32) (k1_t53 : Fin (k1_t53_loop i v552 v557).trips) : Fin 2 → Nat :=
  let c256_i32_463 : BitVec 32 := 256#32
  let c0_i32_462 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let c1_i32_1197 : BitVec 32 := 1#32
  let arg13 : BitVec 32 := Scf.iv v862 c1_i32_1197 k1_t53
  let v1832 : Index := Scalar.indexCast arg13
  let c16_1208 : Index := 16#32
  ![v1832.toNat, 16]
def k1_off212 (i : grid1.Coords) (v552 : BitVec 32) (v557 : BitVec 32) (k1_t53 : Fin (k1_t53_loop i v552 v557).trips) : Fin 2 → Nat :=
  let c256_i32_463 : BitVec 32 := 256#32
  let c0_i32_462 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let c1_i32_1197 : BitVec 32 := 1#32
  let arg13 : BitVec 32 := Scf.iv v862 c1_i32_1197 k1_t53
  let v1836 : Index := Scalar.indexCast arg13
  let c32_1209 : Index := 32#32
  ![v1836.toNat, 32]
def k1_off213 (i : grid1.Coords) (v552 : BitVec 32) (v557 : BitVec 32) (k1_t53 : Fin (k1_t53_loop i v552 v557).trips) : Fin 2 → Nat :=
  let c256_i32_463 : BitVec 32 := 256#32
  let c0_i32_462 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let c1_i32_1197 : BitVec 32 := 1#32
  let arg13 : BitVec 32 := Scf.iv v862 c1_i32_1197 k1_t53
  let v1840 : Index := Scalar.indexCast arg13
  let c48_1210 : Index := 48#32
  ![v1840.toNat, 48]
@[reducible] def k1_t54_loop (i : grid1.Coords) (v552 : BitVec 32) (v557 : BitVec 32) : Scf.Loop 32 :=
  let c256_i32_463 : BitVec 32 := 256#32
  let c0_i32_462 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let c256_i32_466 : BitVec 32 := 256#32
  let c0_i32_465 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c0_i32_464 : BitVec 32 := 0#32
  let v863 : BitVec 32 := Scalar.subi v560 c0_i32_464
  let v864 : BitVec 32 := Scalar.maxsi c0_i32_465 v863
  let v865 : BitVec 32 := Scalar.minsi c256_i32_466 v864
  let v1805 : BitVec 32 := Scalar.subi v865 v862
  let c1_i32_1196 : BitVec 32 := 1#32
  let v1807 : BitVec 32 := Scalar.divsi v1805 c1_i32_1196
  let v1808 : BitVec 32 := Scalar.muli v1807 c1_i32_1196
  let v1809 : BitVec 32 := Scalar.addi v862 v1808
  let v1806 : BitVec 32 := Scalar.addi v862 v1805
  let c1_i32_1198 : BitVec 32 := 1#32
  ⟨v1809, v1806, c1_i32_1198⟩
def k1_off214 (i : grid1.Coords) (v552 : BitVec 32) (v557 : BitVec 32) (k1_t54 : Fin (k1_t54_loop i v552 v557).trips) : Fin 2 → Nat :=
  let c256_i32_463 : BitVec 32 := 256#32
  let c0_i32_462 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let c256_i32_466 : BitVec 32 := 256#32
  let c0_i32_465 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c0_i32_464 : BitVec 32 := 0#32
  let v863 : BitVec 32 := Scalar.subi v560 c0_i32_464
  let v864 : BitVec 32 := Scalar.maxsi c0_i32_465 v863
  let v865 : BitVec 32 := Scalar.minsi c256_i32_466 v864
  let v1805 : BitVec 32 := Scalar.subi v865 v862
  let c1_i32_1196 : BitVec 32 := 1#32
  let v1807 : BitVec 32 := Scalar.divsi v1805 c1_i32_1196
  let v1808 : BitVec 32 := Scalar.muli v1807 c1_i32_1196
  let v1809 : BitVec 32 := Scalar.addi v862 v1808
  let c1_i32_1198 : BitVec 32 := 1#32
  let arg13 : BitVec 32 := Scf.iv v1809 c1_i32_1198 k1_t54
  let v1828 : Index := Scalar.indexCast arg13
  let c0_1207 : Index := 0#32
  ![v1828.toNat, 0]
def k1_off215 (i : grid1.Coords) (v552 : BitVec 32) (v557 : BitVec 32) (k1_t54 : Fin (k1_t54_loop i v552 v557).trips) : Fin 2 → Nat :=
  let c256_i32_463 : BitVec 32 := 256#32
  let c0_i32_462 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let c256_i32_466 : BitVec 32 := 256#32
  let c0_i32_465 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c0_i32_464 : BitVec 32 := 0#32
  let v863 : BitVec 32 := Scalar.subi v560 c0_i32_464
  let v864 : BitVec 32 := Scalar.maxsi c0_i32_465 v863
  let v865 : BitVec 32 := Scalar.minsi c256_i32_466 v864
  let v1805 : BitVec 32 := Scalar.subi v865 v862
  let c1_i32_1196 : BitVec 32 := 1#32
  let v1807 : BitVec 32 := Scalar.divsi v1805 c1_i32_1196
  let v1808 : BitVec 32 := Scalar.muli v1807 c1_i32_1196
  let v1809 : BitVec 32 := Scalar.addi v862 v1808
  let c1_i32_1198 : BitVec 32 := 1#32
  let arg13 : BitVec 32 := Scf.iv v1809 c1_i32_1198 k1_t54
  let v1832 : Index := Scalar.indexCast arg13
  let c16_1208 : Index := 16#32
  ![v1832.toNat, 16]
def k1_off216 (i : grid1.Coords) (v552 : BitVec 32) (v557 : BitVec 32) (k1_t54 : Fin (k1_t54_loop i v552 v557).trips) : Fin 2 → Nat :=
  let c256_i32_463 : BitVec 32 := 256#32
  let c0_i32_462 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let c256_i32_466 : BitVec 32 := 256#32
  let c0_i32_465 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c0_i32_464 : BitVec 32 := 0#32
  let v863 : BitVec 32 := Scalar.subi v560 c0_i32_464
  let v864 : BitVec 32 := Scalar.maxsi c0_i32_465 v863
  let v865 : BitVec 32 := Scalar.minsi c256_i32_466 v864
  let v1805 : BitVec 32 := Scalar.subi v865 v862
  let c1_i32_1196 : BitVec 32 := 1#32
  let v1807 : BitVec 32 := Scalar.divsi v1805 c1_i32_1196
  let v1808 : BitVec 32 := Scalar.muli v1807 c1_i32_1196
  let v1809 : BitVec 32 := Scalar.addi v862 v1808
  let c1_i32_1198 : BitVec 32 := 1#32
  let arg13 : BitVec 32 := Scf.iv v1809 c1_i32_1198 k1_t54
  let v1836 : Index := Scalar.indexCast arg13
  let c32_1209 : Index := 32#32
  ![v1836.toNat, 32]
def k1_off217 (i : grid1.Coords) (v552 : BitVec 32) (v557 : BitVec 32) (k1_t54 : Fin (k1_t54_loop i v552 v557).trips) : Fin 2 → Nat :=
  let c256_i32_463 : BitVec 32 := 256#32
  let c0_i32_462 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c0_i32_461 : BitVec 32 := 0#32
  let v860 : BitVec 32 := Scalar.subi v555 c0_i32_461
  let v861 : BitVec 32 := Scalar.maxsi c0_i32_462 v860
  let v862 : BitVec 32 := Scalar.minsi c256_i32_463 v861
  let c256_i32_466 : BitVec 32 := 256#32
  let c0_i32_465 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c0_i32_464 : BitVec 32 := 0#32
  let v863 : BitVec 32 := Scalar.subi v560 c0_i32_464
  let v864 : BitVec 32 := Scalar.maxsi c0_i32_465 v863
  let v865 : BitVec 32 := Scalar.minsi c256_i32_466 v864
  let v1805 : BitVec 32 := Scalar.subi v865 v862
  let c1_i32_1196 : BitVec 32 := 1#32
  let v1807 : BitVec 32 := Scalar.divsi v1805 c1_i32_1196
  let v1808 : BitVec 32 := Scalar.muli v1807 c1_i32_1196
  let v1809 : BitVec 32 := Scalar.addi v862 v1808
  let c1_i32_1198 : BitVec 32 := 1#32
  let arg13 : BitVec 32 := Scf.iv v1809 c1_i32_1198 k1_t54
  let v1840 : Index := Scalar.indexCast arg13
  let c48_1210 : Index := 48#32
  ![v1840.toNat, 48]
@[reducible] def k1_t55_loop (i : grid1.Coords) (v562 : BitVec 32) (v568 : BitVec 32) : Scf.Loop 32 :=
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let c256_i32_473 : BitVec 32 := 256#32
  let c0_i32_472 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c0_i32_471 : BitVec 32 := 0#32
  let v872 : BitVec 32 := Scalar.subi v572 c0_i32_471
  let v873 : BitVec 32 := Scalar.maxsi c0_i32_472 v872
  let v874 : BitVec 32 := Scalar.minsi c256_i32_473 v873
  let v1805 : BitVec 32 := Scalar.subi v874 v871
  let c1_i32_1196 : BitVec 32 := 1#32
  let v1807 : BitVec 32 := Scalar.divsi v1805 c1_i32_1196
  let v1808 : BitVec 32 := Scalar.muli v1807 c1_i32_1196
  let v1809 : BitVec 32 := Scalar.addi v871 v1808
  let c1_i32_1197 : BitVec 32 := 1#32
  ⟨v871, v1809, c1_i32_1197⟩
def k1_cond28 (i : grid1.Coords) (v562 : BitVec 32) (v568 : BitVec 32) : BitVec 1 :=
  let c256_i32_473 : BitVec 32 := 256#32
  let c0_i32_472 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v570 : BitVec 32 := Scalar.subi v569 v3
  let v571 : BitVec 32 := Scalar.maxsi c0_i32_249 v570
  let v572 : BitVec 32 := Scalar.minsi c1024_i32_250 v571
  let c0_i32_471 : BitVec 32 := 0#32
  let v872 : BitVec 32 := Scalar.subi v572 c0_i32_471
  let v873 : BitVec 32 := Scalar.maxsi c0_i32_472 v872
  let v874 : BitVec 32 := Scalar.minsi c256_i32_473 v873
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let v875 : BitVec 1 := Scalar.cmpi .sgt v874 v871
  let v876 : BitVec 32 := Scalar.extui v875
  let c0_i32_474 : BitVec 32 := 0#32
  let v877 : BitVec 1 := Scalar.cmpi .ne v876 c0_i32_474
  v877

def k1_off218 (i : grid1.Coords) (v562 : BitVec 32) (v568 : BitVec 32) (k1_t55 : Fin (k1_t55_loop i v562 v568).trips) : Fin 2 → Nat :=
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let c1_i32_1197 : BitVec 32 := 1#32
  let arg13 : BitVec 32 := Scf.iv v871 c1_i32_1197 k1_t55
  let v1828 : Index := Scalar.indexCast arg13
  let c64 : Index := 64#32
  ![v1828.toNat, 64]
def k1_off219 (i : grid1.Coords) (v562 : BitVec 32) (v568 : BitVec 32) (k1_t55 : Fin (k1_t55_loop i v562 v568).trips) : Fin 2 → Nat :=
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let c1_i32_1197 : BitVec 32 := 1#32
  let arg13 : BitVec 32 := Scf.iv v871 c1_i32_1197 k1_t55
  let v1832 : Index := Scalar.indexCast arg13
  let c80 : Index := 80#32
  ![v1832.toNat, 80]
def k1_off220 (i : grid1.Coords) (v562 : BitVec 32) (v568 : BitVec 32) (k1_t55 : Fin (k1_t55_loop i v562 v568).trips) : Fin 2 → Nat :=
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let c1_i32_1197 : BitVec 32 := 1#32
  let arg13 : BitVec 32 := Scf.iv v871 c1_i32_1197 k1_t55
  let v1836 : Index := Scalar.indexCast arg13
  let c96 : Index := 96#32
  ![v1836.toNat, 96]
def k1_off221 (i : grid1.Coords) (v562 : BitVec 32) (v568 : BitVec 32) (k1_t55 : Fin (k1_t55_loop i v562 v568).trips) : Fin 2 → Nat :=
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let c1_i32_1197 : BitVec 32 := 1#32
  let arg13 : BitVec 32 := Scf.iv v871 c1_i32_1197 k1_t55
  let v1840 : Index := Scalar.indexCast arg13
  let c112 : Index := 112#32
  ![v1840.toNat, 112]
@[reducible] def k1_t56_loop (i : grid1.Coords) (v562 : BitVec 32) (v568 : BitVec 32) : Scf.Loop 32 :=
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let c256_i32_473 : BitVec 32 := 256#32
  let c0_i32_472 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c0_i32_471 : BitVec 32 := 0#32
  let v872 : BitVec 32 := Scalar.subi v572 c0_i32_471
  let v873 : BitVec 32 := Scalar.maxsi c0_i32_472 v872
  let v874 : BitVec 32 := Scalar.minsi c256_i32_473 v873
  let v1805 : BitVec 32 := Scalar.subi v874 v871
  let c1_i32_1196 : BitVec 32 := 1#32
  let v1807 : BitVec 32 := Scalar.divsi v1805 c1_i32_1196
  let v1808 : BitVec 32 := Scalar.muli v1807 c1_i32_1196
  let v1809 : BitVec 32 := Scalar.addi v871 v1808
  let v1806 : BitVec 32 := Scalar.addi v871 v1805
  let c1_i32_1198 : BitVec 32 := 1#32
  ⟨v1809, v1806, c1_i32_1198⟩
def k1_off222 (i : grid1.Coords) (v562 : BitVec 32) (v568 : BitVec 32) (k1_t56 : Fin (k1_t56_loop i v562 v568).trips) : Fin 2 → Nat :=
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let c256_i32_473 : BitVec 32 := 256#32
  let c0_i32_472 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c0_i32_471 : BitVec 32 := 0#32
  let v872 : BitVec 32 := Scalar.subi v572 c0_i32_471
  let v873 : BitVec 32 := Scalar.maxsi c0_i32_472 v872
  let v874 : BitVec 32 := Scalar.minsi c256_i32_473 v873
  let v1805 : BitVec 32 := Scalar.subi v874 v871
  let c1_i32_1196 : BitVec 32 := 1#32
  let v1807 : BitVec 32 := Scalar.divsi v1805 c1_i32_1196
  let v1808 : BitVec 32 := Scalar.muli v1807 c1_i32_1196
  let v1809 : BitVec 32 := Scalar.addi v871 v1808
  let c1_i32_1198 : BitVec 32 := 1#32
  let arg13 : BitVec 32 := Scf.iv v1809 c1_i32_1198 k1_t56
  let v1828 : Index := Scalar.indexCast arg13
  let c64 : Index := 64#32
  ![v1828.toNat, 64]
def k1_off223 (i : grid1.Coords) (v562 : BitVec 32) (v568 : BitVec 32) (k1_t56 : Fin (k1_t56_loop i v562 v568).trips) : Fin 2 → Nat :=
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let c256_i32_473 : BitVec 32 := 256#32
  let c0_i32_472 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c0_i32_471 : BitVec 32 := 0#32
  let v872 : BitVec 32 := Scalar.subi v572 c0_i32_471
  let v873 : BitVec 32 := Scalar.maxsi c0_i32_472 v872
  let v874 : BitVec 32 := Scalar.minsi c256_i32_473 v873
  let v1805 : BitVec 32 := Scalar.subi v874 v871
  let c1_i32_1196 : BitVec 32 := 1#32
  let v1807 : BitVec 32 := Scalar.divsi v1805 c1_i32_1196
  let v1808 : BitVec 32 := Scalar.muli v1807 c1_i32_1196
  let v1809 : BitVec 32 := Scalar.addi v871 v1808
  let c1_i32_1198 : BitVec 32 := 1#32
  let arg13 : BitVec 32 := Scf.iv v1809 c1_i32_1198 k1_t56
  let v1832 : Index := Scalar.indexCast arg13
  let c80 : Index := 80#32
  ![v1832.toNat, 80]
def k1_off224 (i : grid1.Coords) (v562 : BitVec 32) (v568 : BitVec 32) (k1_t56 : Fin (k1_t56_loop i v562 v568).trips) : Fin 2 → Nat :=
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let c256_i32_473 : BitVec 32 := 256#32
  let c0_i32_472 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c0_i32_471 : BitVec 32 := 0#32
  let v872 : BitVec 32 := Scalar.subi v572 c0_i32_471
  let v873 : BitVec 32 := Scalar.maxsi c0_i32_472 v872
  let v874 : BitVec 32 := Scalar.minsi c256_i32_473 v873
  let v1805 : BitVec 32 := Scalar.subi v874 v871
  let c1_i32_1196 : BitVec 32 := 1#32
  let v1807 : BitVec 32 := Scalar.divsi v1805 c1_i32_1196
  let v1808 : BitVec 32 := Scalar.muli v1807 c1_i32_1196
  let v1809 : BitVec 32 := Scalar.addi v871 v1808
  let c1_i32_1198 : BitVec 32 := 1#32
  let arg13 : BitVec 32 := Scf.iv v1809 c1_i32_1198 k1_t56
  let v1836 : Index := Scalar.indexCast arg13
  let c96 : Index := 96#32
  ![v1836.toNat, 96]
def k1_off225 (i : grid1.Coords) (v562 : BitVec 32) (v568 : BitVec 32) (k1_t56 : Fin (k1_t56_loop i v562 v568).trips) : Fin 2 → Nat :=
  let c256_i32_470 : BitVec 32 := 256#32
  let c0_i32_469 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c0_i32_468 : BitVec 32 := 0#32
  let v869 : BitVec 32 := Scalar.subi v566 c0_i32_468
  let v870 : BitVec 32 := Scalar.maxsi c0_i32_469 v869
  let v871 : BitVec 32 := Scalar.minsi c256_i32_470 v870
  let c256_i32_473 : BitVec 32 := 256#32
  let c0_i32_472 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c0_i32_471 : BitVec 32 := 0#32
  let v872 : BitVec 32 := Scalar.subi v572 c0_i32_471
  let v873 : BitVec 32 := Scalar.maxsi c0_i32_472 v872
  let v874 : BitVec 32 := Scalar.minsi c256_i32_473 v873
  let v1805 : BitVec 32 := Scalar.subi v874 v871
  let c1_i32_1196 : BitVec 32 := 1#32
  let v1807 : BitVec 32 := Scalar.divsi v1805 c1_i32_1196
  let v1808 : BitVec 32 := Scalar.muli v1807 c1_i32_1196
  let v1809 : BitVec 32 := Scalar.addi v871 v1808
  let c1_i32_1198 : BitVec 32 := 1#32
  let arg13 : BitVec 32 := Scf.iv v1809 c1_i32_1198 k1_t56
  let v1840 : Index := Scalar.indexCast arg13
  let c112 : Index := 112#32
  ![v1840.toNat, 112]
@[reducible] def k1_t57_loop (i : grid1.Coords) (v574 : BitVec 32) (v579 : BitVec 32) : Scf.Loop 32 :=
  let c256_i32_477 : BitVec 32 := 256#32
  let c0_i32_476 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let c256_i32_480 : BitVec 32 := 256#32
  let c0_i32_479 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c0_i32_478 : BitVec 32 := 0#32
  let v881 : BitVec 32 := Scalar.subi v582 c0_i32_478
  let v882 : BitVec 32 := Scalar.maxsi c0_i32_479 v881
  let v883 : BitVec 32 := Scalar.minsi c256_i32_480 v882
  let v1805 : BitVec 32 := Scalar.subi v883 v880
  let c1_i32_1196 : BitVec 32 := 1#32
  let v1807 : BitVec 32 := Scalar.divsi v1805 c1_i32_1196
  let v1808 : BitVec 32 := Scalar.muli v1807 c1_i32_1196
  let v1809 : BitVec 32 := Scalar.addi v880 v1808
  let c1_i32_1197 : BitVec 32 := 1#32
  ⟨v880, v1809, c1_i32_1197⟩
def k1_cond29 (i : grid1.Coords) (v574 : BitVec 32) (v579 : BitVec 32) : BitVec 1 :=
  let c256_i32_480 : BitVec 32 := 256#32
  let c0_i32_479 : BitVec 32 := 0#32
  let c1024_i32_254 : BitVec 32 := 1024#32
  let c0_i32_253 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v580 : BitVec 32 := Scalar.subi v579 v3
  let v581 : BitVec 32 := Scalar.maxsi c0_i32_253 v580
  let v582 : BitVec 32 := Scalar.minsi c1024_i32_254 v581
  let c0_i32_478 : BitVec 32 := 0#32
  let v881 : BitVec 32 := Scalar.subi v582 c0_i32_478
  let v882 : BitVec 32 := Scalar.maxsi c0_i32_479 v881
  let v883 : BitVec 32 := Scalar.minsi c256_i32_480 v882
  let c256_i32_477 : BitVec 32 := 256#32
  let c0_i32_476 : BitVec 32 := 0#32
  let c1024_i32_252 : BitVec 32 := 1024#32
  let c0_i32_251 : BitVec 32 := 0#32
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let v884 : BitVec 1 := Scalar.cmpi .sgt v883 v880
  let v885 : BitVec 32 := Scalar.extui v884
  let c0_i32_481 : BitVec 32 := 0#32
  let v886 : BitVec 1 := Scalar.cmpi .ne v885 c0_i32_481
  v886

def k1_off226 (i : grid1.Coords) (v574 : BitVec 32) (v579 : BitVec 32) (k1_t57 : Fin (k1_t57_loop i v574 v579).trips) : Fin 2 → Nat :=
  let c256_i32_477 : BitVec 32 := 256#32
  let c0_i32_476 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let c1_i32_1197 : BitVec 32 := 1#32
  let arg13 : BitVec 32 := Scf.iv v880 c1_i32_1197 k1_t57
  let v1828 : Index := Scalar.indexCast arg13
  let c0_1207 : Index := 0#32
  ![v1828.toNat, 0]
def k1_off227 (i : grid1.Coords) (v574 : BitVec 32) (v579 : BitVec 32) (k1_t57 : Fin (k1_t57_loop i v574 v579).trips) : Fin 2 → Nat :=
  let c256_i32_477 : BitVec 32 := 256#32
  let c0_i32_476 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let c1_i32_1197 : BitVec 32 := 1#32
  let arg13 : BitVec 32 := Scf.iv v880 c1_i32_1197 k1_t57
  let v1832 : Index := Scalar.indexCast arg13
  let c16_1208 : Index := 16#32
  ![v1832.toNat, 16]
def k1_off228 (i : grid1.Coords) (v574 : BitVec 32) (v579 : BitVec 32) (k1_t57 : Fin (k1_t57_loop i v574 v579).trips) : Fin 2 → Nat :=
  let c256_i32_477 : BitVec 32 := 256#32
  let c0_i32_476 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let c1_i32_1197 : BitVec 32 := 1#32
  let arg13 : BitVec 32 := Scf.iv v880 c1_i32_1197 k1_t57
  let v1836 : Index := Scalar.indexCast arg13
  let c32_1209 : Index := 32#32
  ![v1836.toNat, 32]
def k1_off229 (i : grid1.Coords) (v574 : BitVec 32) (v579 : BitVec 32) (k1_t57 : Fin (k1_t57_loop i v574 v579).trips) : Fin 2 → Nat :=
  let c256_i32_477 : BitVec 32 := 256#32
  let c0_i32_476 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let c1_i32_1197 : BitVec 32 := 1#32
  let arg13 : BitVec 32 := Scf.iv v880 c1_i32_1197 k1_t57
  let v1840 : Index := Scalar.indexCast arg13
  let c48_1210 : Index := 48#32
  ![v1840.toNat, 48]
@[reducible] def k1_t58_loop (i : grid1.Coords) (v574 : BitVec 32) (v579 : BitVec 32) : Scf.Loop 32 :=
  let c256_i32_477 : BitVec 32 := 256#32
  let c0_i32_476 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let c256_i32_480 : BitVec 32 := 256#32
  let c0_i32_479 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c0_i32_478 : BitVec 32 := 0#32
  let v881 : BitVec 32 := Scalar.subi v582 c0_i32_478
  let v882 : BitVec 32 := Scalar.maxsi c0_i32_479 v881
  let v883 : BitVec 32 := Scalar.minsi c256_i32_480 v882
  let v1805 : BitVec 32 := Scalar.subi v883 v880
  let c1_i32_1196 : BitVec 32 := 1#32
  let v1807 : BitVec 32 := Scalar.divsi v1805 c1_i32_1196
  let v1808 : BitVec 32 := Scalar.muli v1807 c1_i32_1196
  let v1809 : BitVec 32 := Scalar.addi v880 v1808
  let v1806 : BitVec 32 := Scalar.addi v880 v1805
  let c1_i32_1198 : BitVec 32 := 1#32
  ⟨v1809, v1806, c1_i32_1198⟩
def k1_off230 (i : grid1.Coords) (v574 : BitVec 32) (v579 : BitVec 32) (k1_t58 : Fin (k1_t58_loop i v574 v579).trips) : Fin 2 → Nat :=
  let c256_i32_477 : BitVec 32 := 256#32
  let c0_i32_476 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let c256_i32_480 : BitVec 32 := 256#32
  let c0_i32_479 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c0_i32_478 : BitVec 32 := 0#32
  let v881 : BitVec 32 := Scalar.subi v582 c0_i32_478
  let v882 : BitVec 32 := Scalar.maxsi c0_i32_479 v881
  let v883 : BitVec 32 := Scalar.minsi c256_i32_480 v882
  let v1805 : BitVec 32 := Scalar.subi v883 v880
  let c1_i32_1196 : BitVec 32 := 1#32
  let v1807 : BitVec 32 := Scalar.divsi v1805 c1_i32_1196
  let v1808 : BitVec 32 := Scalar.muli v1807 c1_i32_1196
  let v1809 : BitVec 32 := Scalar.addi v880 v1808
  let c1_i32_1198 : BitVec 32 := 1#32
  let arg13 : BitVec 32 := Scf.iv v1809 c1_i32_1198 k1_t58
  let v1828 : Index := Scalar.indexCast arg13
  let c0_1207 : Index := 0#32
  ![v1828.toNat, 0]
def k1_off231 (i : grid1.Coords) (v574 : BitVec 32) (v579 : BitVec 32) (k1_t58 : Fin (k1_t58_loop i v574 v579).trips) : Fin 2 → Nat :=
  let c256_i32_477 : BitVec 32 := 256#32
  let c0_i32_476 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let c256_i32_480 : BitVec 32 := 256#32
  let c0_i32_479 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c0_i32_478 : BitVec 32 := 0#32
  let v881 : BitVec 32 := Scalar.subi v582 c0_i32_478
  let v882 : BitVec 32 := Scalar.maxsi c0_i32_479 v881
  let v883 : BitVec 32 := Scalar.minsi c256_i32_480 v882
  let v1805 : BitVec 32 := Scalar.subi v883 v880
  let c1_i32_1196 : BitVec 32 := 1#32
  let v1807 : BitVec 32 := Scalar.divsi v1805 c1_i32_1196
  let v1808 : BitVec 32 := Scalar.muli v1807 c1_i32_1196
  let v1809 : BitVec 32 := Scalar.addi v880 v1808
  let c1_i32_1198 : BitVec 32 := 1#32
  let arg13 : BitVec 32 := Scf.iv v1809 c1_i32_1198 k1_t58
  let v1832 : Index := Scalar.indexCast arg13
  let c16_1208 : Index := 16#32
  ![v1832.toNat, 16]
def k1_off232 (i : grid1.Coords) (v574 : BitVec 32) (v579 : BitVec 32) (k1_t58 : Fin (k1_t58_loop i v574 v579).trips) : Fin 2 → Nat :=
  let c256_i32_477 : BitVec 32 := 256#32
  let c0_i32_476 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let c256_i32_480 : BitVec 32 := 256#32
  let c0_i32_479 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c0_i32_478 : BitVec 32 := 0#32
  let v881 : BitVec 32 := Scalar.subi v582 c0_i32_478
  let v882 : BitVec 32 := Scalar.maxsi c0_i32_479 v881
  let v883 : BitVec 32 := Scalar.minsi c256_i32_480 v882
  let v1805 : BitVec 32 := Scalar.subi v883 v880
  let c1_i32_1196 : BitVec 32 := 1#32
  let v1807 : BitVec 32 := Scalar.divsi v1805 c1_i32_1196
  let v1808 : BitVec 32 := Scalar.muli v1807 c1_i32_1196
  let v1809 : BitVec 32 := Scalar.addi v880 v1808
  let c1_i32_1198 : BitVec 32 := 1#32
  let arg13 : BitVec 32 := Scf.iv v1809 c1_i32_1198 k1_t58
  let v1836 : Index := Scalar.indexCast arg13
  let c32_1209 : Index := 32#32
  ![v1836.toNat, 32]
def k1_off233 (i : grid1.Coords) (v574 : BitVec 32) (v579 : BitVec 32) (k1_t58 : Fin (k1_t58_loop i v574 v579).trips) : Fin 2 → Nat :=
  let c256_i32_477 : BitVec 32 := 256#32
  let c0_i32_476 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c0_i32_475 : BitVec 32 := 0#32
  let v878 : BitVec 32 := Scalar.subi v577 c0_i32_475
  let v879 : BitVec 32 := Scalar.maxsi c0_i32_476 v878
  let v880 : BitVec 32 := Scalar.minsi c256_i32_477 v879
  let c256_i32_480 : BitVec 32 := 256#32
  let c0_i32_479 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c0_i32_478 : BitVec 32 := 0#32
  let v881 : BitVec 32 := Scalar.subi v582 c0_i32_478
  let v882 : BitVec 32 := Scalar.maxsi c0_i32_479 v881
  let v883 : BitVec 32 := Scalar.minsi c256_i32_480 v882
  let v1805 : BitVec 32 := Scalar.subi v883 v880
  let c1_i32_1196 : BitVec 32 := 1#32
  let v1807 : BitVec 32 := Scalar.divsi v1805 c1_i32_1196
  let v1808 : BitVec 32 := Scalar.muli v1807 c1_i32_1196
  let v1809 : BitVec 32 := Scalar.addi v880 v1808
  let c1_i32_1198 : BitVec 32 := 1#32
  let arg13 : BitVec 32 := Scf.iv v1809 c1_i32_1198 k1_t58
  let v1840 : Index := Scalar.indexCast arg13
  let c48_1210 : Index := 48#32
  ![v1840.toNat, 48]
@[reducible] def k1_t59_loop (i : grid1.Coords) (v584 : BitVec 32) (v590 : BitVec 32) : Scf.Loop 32 :=
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let c256_i32_487 : BitVec 32 := 256#32
  let c0_i32_486 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c0_i32_485 : BitVec 32 := 0#32
  let v890 : BitVec 32 := Scalar.subi v594 c0_i32_485
  let v891 : BitVec 32 := Scalar.maxsi c0_i32_486 v890
  let v892 : BitVec 32 := Scalar.minsi c256_i32_487 v891
  let v1805 : BitVec 32 := Scalar.subi v892 v889
  let c1_i32_1196 : BitVec 32 := 1#32
  let v1807 : BitVec 32 := Scalar.divsi v1805 c1_i32_1196
  let v1808 : BitVec 32 := Scalar.muli v1807 c1_i32_1196
  let v1809 : BitVec 32 := Scalar.addi v889 v1808
  let c1_i32_1197 : BitVec 32 := 1#32
  ⟨v889, v1809, c1_i32_1197⟩
def k1_cond30 (i : grid1.Coords) (v584 : BitVec 32) (v590 : BitVec 32) : BitVec 1 :=
  let c256_i32_487 : BitVec 32 := 256#32
  let c0_i32_486 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v592 : BitVec 32 := Scalar.subi v591 v3
  let v593 : BitVec 32 := Scalar.maxsi c0_i32_259 v592
  let v594 : BitVec 32 := Scalar.minsi c1024_i32_260 v593
  let c0_i32_485 : BitVec 32 := 0#32
  let v890 : BitVec 32 := Scalar.subi v594 c0_i32_485
  let v891 : BitVec 32 := Scalar.maxsi c0_i32_486 v890
  let v892 : BitVec 32 := Scalar.minsi c256_i32_487 v891
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let v893 : BitVec 1 := Scalar.cmpi .sgt v892 v889
  let v894 : BitVec 32 := Scalar.extui v893
  let c0_i32_488 : BitVec 32 := 0#32
  let v895 : BitVec 1 := Scalar.cmpi .ne v894 c0_i32_488
  v895

def k1_off234 (i : grid1.Coords) (v584 : BitVec 32) (v590 : BitVec 32) (k1_t59 : Fin (k1_t59_loop i v584 v590).trips) : Fin 2 → Nat :=
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let c1_i32_1197 : BitVec 32 := 1#32
  let arg13 : BitVec 32 := Scf.iv v889 c1_i32_1197 k1_t59
  let v1828 : Index := Scalar.indexCast arg13
  let c64 : Index := 64#32
  ![v1828.toNat, 64]
def k1_off235 (i : grid1.Coords) (v584 : BitVec 32) (v590 : BitVec 32) (k1_t59 : Fin (k1_t59_loop i v584 v590).trips) : Fin 2 → Nat :=
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let c1_i32_1197 : BitVec 32 := 1#32
  let arg13 : BitVec 32 := Scf.iv v889 c1_i32_1197 k1_t59
  let v1832 : Index := Scalar.indexCast arg13
  let c80 : Index := 80#32
  ![v1832.toNat, 80]
def k1_off236 (i : grid1.Coords) (v584 : BitVec 32) (v590 : BitVec 32) (k1_t59 : Fin (k1_t59_loop i v584 v590).trips) : Fin 2 → Nat :=
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let c1_i32_1197 : BitVec 32 := 1#32
  let arg13 : BitVec 32 := Scf.iv v889 c1_i32_1197 k1_t59
  let v1836 : Index := Scalar.indexCast arg13
  let c96 : Index := 96#32
  ![v1836.toNat, 96]
def k1_off237 (i : grid1.Coords) (v584 : BitVec 32) (v590 : BitVec 32) (k1_t59 : Fin (k1_t59_loop i v584 v590).trips) : Fin 2 → Nat :=
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let c1_i32_1197 : BitVec 32 := 1#32
  let arg13 : BitVec 32 := Scf.iv v889 c1_i32_1197 k1_t59
  let v1840 : Index := Scalar.indexCast arg13
  let c112 : Index := 112#32
  ![v1840.toNat, 112]
@[reducible] def k1_t60_loop (i : grid1.Coords) (v584 : BitVec 32) (v590 : BitVec 32) : Scf.Loop 32 :=
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let c256_i32_487 : BitVec 32 := 256#32
  let c0_i32_486 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c0_i32_485 : BitVec 32 := 0#32
  let v890 : BitVec 32 := Scalar.subi v594 c0_i32_485
  let v891 : BitVec 32 := Scalar.maxsi c0_i32_486 v890
  let v892 : BitVec 32 := Scalar.minsi c256_i32_487 v891
  let v1805 : BitVec 32 := Scalar.subi v892 v889
  let c1_i32_1196 : BitVec 32 := 1#32
  let v1807 : BitVec 32 := Scalar.divsi v1805 c1_i32_1196
  let v1808 : BitVec 32 := Scalar.muli v1807 c1_i32_1196
  let v1809 : BitVec 32 := Scalar.addi v889 v1808
  let v1806 : BitVec 32 := Scalar.addi v889 v1805
  let c1_i32_1198 : BitVec 32 := 1#32
  ⟨v1809, v1806, c1_i32_1198⟩
def k1_off238 (i : grid1.Coords) (v584 : BitVec 32) (v590 : BitVec 32) (k1_t60 : Fin (k1_t60_loop i v584 v590).trips) : Fin 2 → Nat :=
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let c256_i32_487 : BitVec 32 := 256#32
  let c0_i32_486 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c0_i32_485 : BitVec 32 := 0#32
  let v890 : BitVec 32 := Scalar.subi v594 c0_i32_485
  let v891 : BitVec 32 := Scalar.maxsi c0_i32_486 v890
  let v892 : BitVec 32 := Scalar.minsi c256_i32_487 v891
  let v1805 : BitVec 32 := Scalar.subi v892 v889
  let c1_i32_1196 : BitVec 32 := 1#32
  let v1807 : BitVec 32 := Scalar.divsi v1805 c1_i32_1196
  let v1808 : BitVec 32 := Scalar.muli v1807 c1_i32_1196
  let v1809 : BitVec 32 := Scalar.addi v889 v1808
  let c1_i32_1198 : BitVec 32 := 1#32
  let arg13 : BitVec 32 := Scf.iv v1809 c1_i32_1198 k1_t60
  let v1828 : Index := Scalar.indexCast arg13
  let c64 : Index := 64#32
  ![v1828.toNat, 64]
def k1_off239 (i : grid1.Coords) (v584 : BitVec 32) (v590 : BitVec 32) (k1_t60 : Fin (k1_t60_loop i v584 v590).trips) : Fin 2 → Nat :=
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let c256_i32_487 : BitVec 32 := 256#32
  let c0_i32_486 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c0_i32_485 : BitVec 32 := 0#32
  let v890 : BitVec 32 := Scalar.subi v594 c0_i32_485
  let v891 : BitVec 32 := Scalar.maxsi c0_i32_486 v890
  let v892 : BitVec 32 := Scalar.minsi c256_i32_487 v891
  let v1805 : BitVec 32 := Scalar.subi v892 v889
  let c1_i32_1196 : BitVec 32 := 1#32
  let v1807 : BitVec 32 := Scalar.divsi v1805 c1_i32_1196
  let v1808 : BitVec 32 := Scalar.muli v1807 c1_i32_1196
  let v1809 : BitVec 32 := Scalar.addi v889 v1808
  let c1_i32_1198 : BitVec 32 := 1#32
  let arg13 : BitVec 32 := Scf.iv v1809 c1_i32_1198 k1_t60
  let v1832 : Index := Scalar.indexCast arg13
  let c80 : Index := 80#32
  ![v1832.toNat, 80]
def k1_off240 (i : grid1.Coords) (v584 : BitVec 32) (v590 : BitVec 32) (k1_t60 : Fin (k1_t60_loop i v584 v590).trips) : Fin 2 → Nat :=
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let c256_i32_487 : BitVec 32 := 256#32
  let c0_i32_486 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c0_i32_485 : BitVec 32 := 0#32
  let v890 : BitVec 32 := Scalar.subi v594 c0_i32_485
  let v891 : BitVec 32 := Scalar.maxsi c0_i32_486 v890
  let v892 : BitVec 32 := Scalar.minsi c256_i32_487 v891
  let v1805 : BitVec 32 := Scalar.subi v892 v889
  let c1_i32_1196 : BitVec 32 := 1#32
  let v1807 : BitVec 32 := Scalar.divsi v1805 c1_i32_1196
  let v1808 : BitVec 32 := Scalar.muli v1807 c1_i32_1196
  let v1809 : BitVec 32 := Scalar.addi v889 v1808
  let c1_i32_1198 : BitVec 32 := 1#32
  let arg13 : BitVec 32 := Scf.iv v1809 c1_i32_1198 k1_t60
  let v1836 : Index := Scalar.indexCast arg13
  let c96 : Index := 96#32
  ![v1836.toNat, 96]
def k1_off241 (i : grid1.Coords) (v584 : BitVec 32) (v590 : BitVec 32) (k1_t60 : Fin (k1_t60_loop i v584 v590).trips) : Fin 2 → Nat :=
  let c256_i32_484 : BitVec 32 := 256#32
  let c0_i32_483 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c0_i32_482 : BitVec 32 := 0#32
  let v887 : BitVec 32 := Scalar.subi v588 c0_i32_482
  let v888 : BitVec 32 := Scalar.maxsi c0_i32_483 v887
  let v889 : BitVec 32 := Scalar.minsi c256_i32_484 v888
  let c256_i32_487 : BitVec 32 := 256#32
  let c0_i32_486 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c0_i32_485 : BitVec 32 := 0#32
  let v890 : BitVec 32 := Scalar.subi v594 c0_i32_485
  let v891 : BitVec 32 := Scalar.maxsi c0_i32_486 v890
  let v892 : BitVec 32 := Scalar.minsi c256_i32_487 v891
  let v1805 : BitVec 32 := Scalar.subi v892 v889
  let c1_i32_1196 : BitVec 32 := 1#32
  let v1807 : BitVec 32 := Scalar.divsi v1805 c1_i32_1196
  let v1808 : BitVec 32 := Scalar.muli v1807 c1_i32_1196
  let v1809 : BitVec 32 := Scalar.addi v889 v1808
  let c1_i32_1198 : BitVec 32 := 1#32
  let arg13 : BitVec 32 := Scf.iv v1809 c1_i32_1198 k1_t60
  let v1840 : Index := Scalar.indexCast arg13
  let c112 : Index := 112#32
  ![v1840.toNat, 112]
@[reducible] def k1_t61_loop (i : grid1.Coords) (v596 : BitVec 32) (v601 : BitVec 32) : Scf.Loop 32 :=
  let c256_i32_491 : BitVec 32 := 256#32
  let c0_i32_490 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let c256_i32_494 : BitVec 32 := 256#32
  let c0_i32_493 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c0_i32_492 : BitVec 32 := 0#32
  let v899 : BitVec 32 := Scalar.subi v604 c0_i32_492
  let v900 : BitVec 32 := Scalar.maxsi c0_i32_493 v899
  let v901 : BitVec 32 := Scalar.minsi c256_i32_494 v900
  let v1805 : BitVec 32 := Scalar.subi v901 v898
  let c1_i32_1196 : BitVec 32 := 1#32
  let v1807 : BitVec 32 := Scalar.divsi v1805 c1_i32_1196
  let v1808 : BitVec 32 := Scalar.muli v1807 c1_i32_1196
  let v1809 : BitVec 32 := Scalar.addi v898 v1808
  let c1_i32_1197 : BitVec 32 := 1#32
  ⟨v898, v1809, c1_i32_1197⟩
def k1_cond31 (i : grid1.Coords) (v596 : BitVec 32) (v601 : BitVec 32) : BitVec 1 :=
  let c256_i32_494 : BitVec 32 := 256#32
  let c0_i32_493 : BitVec 32 := 0#32
  let c1024_i32_264 : BitVec 32 := 1024#32
  let c0_i32_263 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v602 : BitVec 32 := Scalar.subi v601 v3
  let v603 : BitVec 32 := Scalar.maxsi c0_i32_263 v602
  let v604 : BitVec 32 := Scalar.minsi c1024_i32_264 v603
  let c0_i32_492 : BitVec 32 := 0#32
  let v899 : BitVec 32 := Scalar.subi v604 c0_i32_492
  let v900 : BitVec 32 := Scalar.maxsi c0_i32_493 v899
  let v901 : BitVec 32 := Scalar.minsi c256_i32_494 v900
  let c256_i32_491 : BitVec 32 := 256#32
  let c0_i32_490 : BitVec 32 := 0#32
  let c1024_i32_262 : BitVec 32 := 1024#32
  let c0_i32_261 : BitVec 32 := 0#32
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let v902 : BitVec 1 := Scalar.cmpi .sgt v901 v898
  let v903 : BitVec 32 := Scalar.extui v902
  let c0_i32_495 : BitVec 32 := 0#32
  let v904 : BitVec 1 := Scalar.cmpi .ne v903 c0_i32_495
  v904

def k1_off242 (i : grid1.Coords) (v596 : BitVec 32) (v601 : BitVec 32) (k1_t61 : Fin (k1_t61_loop i v596 v601).trips) : Fin 2 → Nat :=
  let c256_i32_491 : BitVec 32 := 256#32
  let c0_i32_490 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let c1_i32_1197 : BitVec 32 := 1#32
  let arg13 : BitVec 32 := Scf.iv v898 c1_i32_1197 k1_t61
  let v1828 : Index := Scalar.indexCast arg13
  let c0_1207 : Index := 0#32
  ![v1828.toNat, 0]
def k1_off243 (i : grid1.Coords) (v596 : BitVec 32) (v601 : BitVec 32) (k1_t61 : Fin (k1_t61_loop i v596 v601).trips) : Fin 2 → Nat :=
  let c256_i32_491 : BitVec 32 := 256#32
  let c0_i32_490 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let c1_i32_1197 : BitVec 32 := 1#32
  let arg13 : BitVec 32 := Scf.iv v898 c1_i32_1197 k1_t61
  let v1832 : Index := Scalar.indexCast arg13
  let c16_1208 : Index := 16#32
  ![v1832.toNat, 16]
def k1_off244 (i : grid1.Coords) (v596 : BitVec 32) (v601 : BitVec 32) (k1_t61 : Fin (k1_t61_loop i v596 v601).trips) : Fin 2 → Nat :=
  let c256_i32_491 : BitVec 32 := 256#32
  let c0_i32_490 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let c1_i32_1197 : BitVec 32 := 1#32
  let arg13 : BitVec 32 := Scf.iv v898 c1_i32_1197 k1_t61
  let v1836 : Index := Scalar.indexCast arg13
  let c32_1209 : Index := 32#32
  ![v1836.toNat, 32]
def k1_off245 (i : grid1.Coords) (v596 : BitVec 32) (v601 : BitVec 32) (k1_t61 : Fin (k1_t61_loop i v596 v601).trips) : Fin 2 → Nat :=
  let c256_i32_491 : BitVec 32 := 256#32
  let c0_i32_490 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let c1_i32_1197 : BitVec 32 := 1#32
  let arg13 : BitVec 32 := Scf.iv v898 c1_i32_1197 k1_t61
  let v1840 : Index := Scalar.indexCast arg13
  let c48_1210 : Index := 48#32
  ![v1840.toNat, 48]
@[reducible] def k1_t62_loop (i : grid1.Coords) (v596 : BitVec 32) (v601 : BitVec 32) : Scf.Loop 32 :=
  let c256_i32_491 : BitVec 32 := 256#32
  let c0_i32_490 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let c256_i32_494 : BitVec 32 := 256#32
  let c0_i32_493 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c0_i32_492 : BitVec 32 := 0#32
  let v899 : BitVec 32 := Scalar.subi v604 c0_i32_492
  let v900 : BitVec 32 := Scalar.maxsi c0_i32_493 v899
  let v901 : BitVec 32 := Scalar.minsi c256_i32_494 v900
  let v1805 : BitVec 32 := Scalar.subi v901 v898
  let c1_i32_1196 : BitVec 32 := 1#32
  let v1807 : BitVec 32 := Scalar.divsi v1805 c1_i32_1196
  let v1808 : BitVec 32 := Scalar.muli v1807 c1_i32_1196
  let v1809 : BitVec 32 := Scalar.addi v898 v1808
  let v1806 : BitVec 32 := Scalar.addi v898 v1805
  let c1_i32_1198 : BitVec 32 := 1#32
  ⟨v1809, v1806, c1_i32_1198⟩
def k1_off246 (i : grid1.Coords) (v596 : BitVec 32) (v601 : BitVec 32) (k1_t62 : Fin (k1_t62_loop i v596 v601).trips) : Fin 2 → Nat :=
  let c256_i32_491 : BitVec 32 := 256#32
  let c0_i32_490 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let c256_i32_494 : BitVec 32 := 256#32
  let c0_i32_493 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c0_i32_492 : BitVec 32 := 0#32
  let v899 : BitVec 32 := Scalar.subi v604 c0_i32_492
  let v900 : BitVec 32 := Scalar.maxsi c0_i32_493 v899
  let v901 : BitVec 32 := Scalar.minsi c256_i32_494 v900
  let v1805 : BitVec 32 := Scalar.subi v901 v898
  let c1_i32_1196 : BitVec 32 := 1#32
  let v1807 : BitVec 32 := Scalar.divsi v1805 c1_i32_1196
  let v1808 : BitVec 32 := Scalar.muli v1807 c1_i32_1196
  let v1809 : BitVec 32 := Scalar.addi v898 v1808
  let c1_i32_1198 : BitVec 32 := 1#32
  let arg13 : BitVec 32 := Scf.iv v1809 c1_i32_1198 k1_t62
  let v1828 : Index := Scalar.indexCast arg13
  let c0_1207 : Index := 0#32
  ![v1828.toNat, 0]
def k1_off247 (i : grid1.Coords) (v596 : BitVec 32) (v601 : BitVec 32) (k1_t62 : Fin (k1_t62_loop i v596 v601).trips) : Fin 2 → Nat :=
  let c256_i32_491 : BitVec 32 := 256#32
  let c0_i32_490 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let c256_i32_494 : BitVec 32 := 256#32
  let c0_i32_493 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c0_i32_492 : BitVec 32 := 0#32
  let v899 : BitVec 32 := Scalar.subi v604 c0_i32_492
  let v900 : BitVec 32 := Scalar.maxsi c0_i32_493 v899
  let v901 : BitVec 32 := Scalar.minsi c256_i32_494 v900
  let v1805 : BitVec 32 := Scalar.subi v901 v898
  let c1_i32_1196 : BitVec 32 := 1#32
  let v1807 : BitVec 32 := Scalar.divsi v1805 c1_i32_1196
  let v1808 : BitVec 32 := Scalar.muli v1807 c1_i32_1196
  let v1809 : BitVec 32 := Scalar.addi v898 v1808
  let c1_i32_1198 : BitVec 32 := 1#32
  let arg13 : BitVec 32 := Scf.iv v1809 c1_i32_1198 k1_t62
  let v1832 : Index := Scalar.indexCast arg13
  let c16_1208 : Index := 16#32
  ![v1832.toNat, 16]
def k1_off248 (i : grid1.Coords) (v596 : BitVec 32) (v601 : BitVec 32) (k1_t62 : Fin (k1_t62_loop i v596 v601).trips) : Fin 2 → Nat :=
  let c256_i32_491 : BitVec 32 := 256#32
  let c0_i32_490 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let c256_i32_494 : BitVec 32 := 256#32
  let c0_i32_493 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c0_i32_492 : BitVec 32 := 0#32
  let v899 : BitVec 32 := Scalar.subi v604 c0_i32_492
  let v900 : BitVec 32 := Scalar.maxsi c0_i32_493 v899
  let v901 : BitVec 32 := Scalar.minsi c256_i32_494 v900
  let v1805 : BitVec 32 := Scalar.subi v901 v898
  let c1_i32_1196 : BitVec 32 := 1#32
  let v1807 : BitVec 32 := Scalar.divsi v1805 c1_i32_1196
  let v1808 : BitVec 32 := Scalar.muli v1807 c1_i32_1196
  let v1809 : BitVec 32 := Scalar.addi v898 v1808
  let c1_i32_1198 : BitVec 32 := 1#32
  let arg13 : BitVec 32 := Scf.iv v1809 c1_i32_1198 k1_t62
  let v1836 : Index := Scalar.indexCast arg13
  let c32_1209 : Index := 32#32
  ![v1836.toNat, 32]
def k1_off249 (i : grid1.Coords) (v596 : BitVec 32) (v601 : BitVec 32) (k1_t62 : Fin (k1_t62_loop i v596 v601).trips) : Fin 2 → Nat :=
  let c256_i32_491 : BitVec 32 := 256#32
  let c0_i32_490 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c0_i32_489 : BitVec 32 := 0#32
  let v896 : BitVec 32 := Scalar.subi v599 c0_i32_489
  let v897 : BitVec 32 := Scalar.maxsi c0_i32_490 v896
  let v898 : BitVec 32 := Scalar.minsi c256_i32_491 v897
  let c256_i32_494 : BitVec 32 := 256#32
  let c0_i32_493 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c0_i32_492 : BitVec 32 := 0#32
  let v899 : BitVec 32 := Scalar.subi v604 c0_i32_492
  let v900 : BitVec 32 := Scalar.maxsi c0_i32_493 v899
  let v901 : BitVec 32 := Scalar.minsi c256_i32_494 v900
  let v1805 : BitVec 32 := Scalar.subi v901 v898
  let c1_i32_1196 : BitVec 32 := 1#32
  let v1807 : BitVec 32 := Scalar.divsi v1805 c1_i32_1196
  let v1808 : BitVec 32 := Scalar.muli v1807 c1_i32_1196
  let v1809 : BitVec 32 := Scalar.addi v898 v1808
  let c1_i32_1198 : BitVec 32 := 1#32
  let arg13 : BitVec 32 := Scf.iv v1809 c1_i32_1198 k1_t62
  let v1840 : Index := Scalar.indexCast arg13
  let c48_1210 : Index := 48#32
  ![v1840.toNat, 48]
@[reducible] def k1_t63_loop (i : grid1.Coords) (v606 : BitVec 32) (v612 : BitVec 32) : Scf.Loop 32 :=
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let c256_i32_501 : BitVec 32 := 256#32
  let c0_i32_500 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c0_i32_499 : BitVec 32 := 0#32
  let v908 : BitVec 32 := Scalar.subi v616 c0_i32_499
  let v909 : BitVec 32 := Scalar.maxsi c0_i32_500 v908
  let v910 : BitVec 32 := Scalar.minsi c256_i32_501 v909
  let v1805 : BitVec 32 := Scalar.subi v910 v907
  let c1_i32_1196 : BitVec 32 := 1#32
  let v1807 : BitVec 32 := Scalar.divsi v1805 c1_i32_1196
  let v1808 : BitVec 32 := Scalar.muli v1807 c1_i32_1196
  let v1809 : BitVec 32 := Scalar.addi v907 v1808
  let c1_i32_1197 : BitVec 32 := 1#32
  ⟨v907, v1809, c1_i32_1197⟩
def k1_cond32 (i : grid1.Coords) (v606 : BitVec 32) (v612 : BitVec 32) : BitVec 1 :=
  let c256_i32_501 : BitVec 32 := 256#32
  let c0_i32_500 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v614 : BitVec 32 := Scalar.subi v613 v3
  let v615 : BitVec 32 := Scalar.maxsi c0_i32_269 v614
  let v616 : BitVec 32 := Scalar.minsi c1024_i32_270 v615
  let c0_i32_499 : BitVec 32 := 0#32
  let v908 : BitVec 32 := Scalar.subi v616 c0_i32_499
  let v909 : BitVec 32 := Scalar.maxsi c0_i32_500 v908
  let v910 : BitVec 32 := Scalar.minsi c256_i32_501 v909
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let v911 : BitVec 1 := Scalar.cmpi .sgt v910 v907
  let v912 : BitVec 32 := Scalar.extui v911
  let c0_i32_502 : BitVec 32 := 0#32
  let v913 : BitVec 1 := Scalar.cmpi .ne v912 c0_i32_502
  v913

def k1_off250 (i : grid1.Coords) (v606 : BitVec 32) (v612 : BitVec 32) (k1_t63 : Fin (k1_t63_loop i v606 v612).trips) : Fin 2 → Nat :=
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let c1_i32_1197 : BitVec 32 := 1#32
  let arg13 : BitVec 32 := Scf.iv v907 c1_i32_1197 k1_t63
  let v1828 : Index := Scalar.indexCast arg13
  let c64 : Index := 64#32
  ![v1828.toNat, 64]
def k1_off251 (i : grid1.Coords) (v606 : BitVec 32) (v612 : BitVec 32) (k1_t63 : Fin (k1_t63_loop i v606 v612).trips) : Fin 2 → Nat :=
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let c1_i32_1197 : BitVec 32 := 1#32
  let arg13 : BitVec 32 := Scf.iv v907 c1_i32_1197 k1_t63
  let v1832 : Index := Scalar.indexCast arg13
  let c80 : Index := 80#32
  ![v1832.toNat, 80]
def k1_off252 (i : grid1.Coords) (v606 : BitVec 32) (v612 : BitVec 32) (k1_t63 : Fin (k1_t63_loop i v606 v612).trips) : Fin 2 → Nat :=
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let c1_i32_1197 : BitVec 32 := 1#32
  let arg13 : BitVec 32 := Scf.iv v907 c1_i32_1197 k1_t63
  let v1836 : Index := Scalar.indexCast arg13
  let c96 : Index := 96#32
  ![v1836.toNat, 96]
def k1_off253 (i : grid1.Coords) (v606 : BitVec 32) (v612 : BitVec 32) (k1_t63 : Fin (k1_t63_loop i v606 v612).trips) : Fin 2 → Nat :=
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let c1_i32_1197 : BitVec 32 := 1#32
  let arg13 : BitVec 32 := Scf.iv v907 c1_i32_1197 k1_t63
  let v1840 : Index := Scalar.indexCast arg13
  let c112 : Index := 112#32
  ![v1840.toNat, 112]
@[reducible] def k1_t64_loop (i : grid1.Coords) (v606 : BitVec 32) (v612 : BitVec 32) : Scf.Loop 32 :=
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let c256_i32_501 : BitVec 32 := 256#32
  let c0_i32_500 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c0_i32_499 : BitVec 32 := 0#32
  let v908 : BitVec 32 := Scalar.subi v616 c0_i32_499
  let v909 : BitVec 32 := Scalar.maxsi c0_i32_500 v908
  let v910 : BitVec 32 := Scalar.minsi c256_i32_501 v909
  let v1805 : BitVec 32 := Scalar.subi v910 v907
  let c1_i32_1196 : BitVec 32 := 1#32
  let v1807 : BitVec 32 := Scalar.divsi v1805 c1_i32_1196
  let v1808 : BitVec 32 := Scalar.muli v1807 c1_i32_1196
  let v1809 : BitVec 32 := Scalar.addi v907 v1808
  let v1806 : BitVec 32 := Scalar.addi v907 v1805
  let c1_i32_1198 : BitVec 32 := 1#32
  ⟨v1809, v1806, c1_i32_1198⟩
def k1_off254 (i : grid1.Coords) (v606 : BitVec 32) (v612 : BitVec 32) (k1_t64 : Fin (k1_t64_loop i v606 v612).trips) : Fin 2 → Nat :=
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let c256_i32_501 : BitVec 32 := 256#32
  let c0_i32_500 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c0_i32_499 : BitVec 32 := 0#32
  let v908 : BitVec 32 := Scalar.subi v616 c0_i32_499
  let v909 : BitVec 32 := Scalar.maxsi c0_i32_500 v908
  let v910 : BitVec 32 := Scalar.minsi c256_i32_501 v909
  let v1805 : BitVec 32 := Scalar.subi v910 v907
  let c1_i32_1196 : BitVec 32 := 1#32
  let v1807 : BitVec 32 := Scalar.divsi v1805 c1_i32_1196
  let v1808 : BitVec 32 := Scalar.muli v1807 c1_i32_1196
  let v1809 : BitVec 32 := Scalar.addi v907 v1808
  let c1_i32_1198 : BitVec 32 := 1#32
  let arg13 : BitVec 32 := Scf.iv v1809 c1_i32_1198 k1_t64
  let v1828 : Index := Scalar.indexCast arg13
  let c64 : Index := 64#32
  ![v1828.toNat, 64]
def k1_off255 (i : grid1.Coords) (v606 : BitVec 32) (v612 : BitVec 32) (k1_t64 : Fin (k1_t64_loop i v606 v612).trips) : Fin 2 → Nat :=
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let c256_i32_501 : BitVec 32 := 256#32
  let c0_i32_500 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c0_i32_499 : BitVec 32 := 0#32
  let v908 : BitVec 32 := Scalar.subi v616 c0_i32_499
  let v909 : BitVec 32 := Scalar.maxsi c0_i32_500 v908
  let v910 : BitVec 32 := Scalar.minsi c256_i32_501 v909
  let v1805 : BitVec 32 := Scalar.subi v910 v907
  let c1_i32_1196 : BitVec 32 := 1#32
  let v1807 : BitVec 32 := Scalar.divsi v1805 c1_i32_1196
  let v1808 : BitVec 32 := Scalar.muli v1807 c1_i32_1196
  let v1809 : BitVec 32 := Scalar.addi v907 v1808
  let c1_i32_1198 : BitVec 32 := 1#32
  let arg13 : BitVec 32 := Scf.iv v1809 c1_i32_1198 k1_t64
  let v1832 : Index := Scalar.indexCast arg13
  let c80 : Index := 80#32
  ![v1832.toNat, 80]
def k1_off256 (i : grid1.Coords) (v606 : BitVec 32) (v612 : BitVec 32) (k1_t64 : Fin (k1_t64_loop i v606 v612).trips) : Fin 2 → Nat :=
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let c256_i32_501 : BitVec 32 := 256#32
  let c0_i32_500 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c0_i32_499 : BitVec 32 := 0#32
  let v908 : BitVec 32 := Scalar.subi v616 c0_i32_499
  let v909 : BitVec 32 := Scalar.maxsi c0_i32_500 v908
  let v910 : BitVec 32 := Scalar.minsi c256_i32_501 v909
  let v1805 : BitVec 32 := Scalar.subi v910 v907
  let c1_i32_1196 : BitVec 32 := 1#32
  let v1807 : BitVec 32 := Scalar.divsi v1805 c1_i32_1196
  let v1808 : BitVec 32 := Scalar.muli v1807 c1_i32_1196
  let v1809 : BitVec 32 := Scalar.addi v907 v1808
  let c1_i32_1198 : BitVec 32 := 1#32
  let arg13 : BitVec 32 := Scf.iv v1809 c1_i32_1198 k1_t64
  let v1836 : Index := Scalar.indexCast arg13
  let c96 : Index := 96#32
  ![v1836.toNat, 96]
def k1_off257 (i : grid1.Coords) (v606 : BitVec 32) (v612 : BitVec 32) (k1_t64 : Fin (k1_t64_loop i v606 v612).trips) : Fin 2 → Nat :=
  let c256_i32_498 : BitVec 32 := 256#32
  let c0_i32_497 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c0_i32_496 : BitVec 32 := 0#32
  let v905 : BitVec 32 := Scalar.subi v610 c0_i32_496
  let v906 : BitVec 32 := Scalar.maxsi c0_i32_497 v905
  let v907 : BitVec 32 := Scalar.minsi c256_i32_498 v906
  let c256_i32_501 : BitVec 32 := 256#32
  let c0_i32_500 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c0_i32_499 : BitVec 32 := 0#32
  let v908 : BitVec 32 := Scalar.subi v616 c0_i32_499
  let v909 : BitVec 32 := Scalar.maxsi c0_i32_500 v908
  let v910 : BitVec 32 := Scalar.minsi c256_i32_501 v909
  let v1805 : BitVec 32 := Scalar.subi v910 v907
  let c1_i32_1196 : BitVec 32 := 1#32
  let v1807 : BitVec 32 := Scalar.divsi v1805 c1_i32_1196
  let v1808 : BitVec 32 := Scalar.muli v1807 c1_i32_1196
  let v1809 : BitVec 32 := Scalar.addi v907 v1808
  let c1_i32_1198 : BitVec 32 := 1#32
  let arg13 : BitVec 32 := Scf.iv v1809 c1_i32_1198 k1_t64
  let v1840 : Index := Scalar.indexCast arg13
  let c112 : Index := 112#32
  ![v1840.toNat, 112]
def k1_off258 (i : grid1.Coords) (c512_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v914 : BitVec 32 := Scalar.addi v2 c512_i32
  let c0_i32_503 : BitVec 32 := 0#32
  ![v914.toNat, 0]
@[reducible] def k1_t65_loop (i : grid1.Coords) (v266 : BitVec 32) (v271 : BitVec 32) : Scf.Loop 32 :=
  let c256_i32_510 : BitVec 32 := 256#32
  let c0_i32_509 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let c256_i32_513 : BitVec 32 := 256#32
  let c0_i32_512 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c256_i32_511 : BitVec 32 := 256#32
  let v923 : BitVec 32 := Scalar.subi v274 c256_i32_511
  let v924 : BitVec 32 := Scalar.maxsi c0_i32_512 v923
  let v925 : BitVec 32 := Scalar.minsi c256_i32_513 v924
  let v1805 : BitVec 32 := Scalar.subi v925 v922
  let c1_i32_1196 : BitVec 32 := 1#32
  let v1807 : BitVec 32 := Scalar.divsi v1805 c1_i32_1196
  let v1808 : BitVec 32 := Scalar.muli v1807 c1_i32_1196
  let v1809 : BitVec 32 := Scalar.addi v922 v1808
  let c1_i32_1197 : BitVec 32 := 1#32
  ⟨v922, v1809, c1_i32_1197⟩
def k1_cond33 (i : grid1.Coords) (v266 : BitVec 32) (v271 : BitVec 32) : BitVec 1 :=
  let c256_i32_513 : BitVec 32 := 256#32
  let c0_i32_512 : BitVec 32 := 0#32
  let c1024_i32_115 : BitVec 32 := 1024#32
  let c0_i32_114 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v272 : BitVec 32 := Scalar.subi v271 v3
  let v273 : BitVec 32 := Scalar.maxsi c0_i32_114 v272
  let v274 : BitVec 32 := Scalar.minsi c1024_i32_115 v273
  let c256_i32_511 : BitVec 32 := 256#32
  let v923 : BitVec 32 := Scalar.subi v274 c256_i32_511
  let v924 : BitVec 32 := Scalar.maxsi c0_i32_512 v923
  let v925 : BitVec 32 := Scalar.minsi c256_i32_513 v924
  let c256_i32_510 : BitVec 32 := 256#32
  let c0_i32_509 : BitVec 32 := 0#32
  let c1024_i32_113 : BitVec 32 := 1024#32
  let c0_i32_112 : BitVec 32 := 0#32
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let v926 : BitVec 1 := Scalar.cmpi .sgt v925 v922
  let v927 : BitVec 32 := Scalar.extui v926
  let c0_i32_514 : BitVec 32 := 0#32
  let v928 : BitVec 1 := Scalar.cmpi .ne v927 c0_i32_514
  v928

def k1_off259 (i : grid1.Coords) (v266 : BitVec 32) (v271 : BitVec 32) (k1_t65 : Fin (k1_t65_loop i v266 v271).trips) : Fin 2 → Nat :=
  let c256_i32_510 : BitVec 32 := 256#32
  let c0_i32_509 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let c1_i32_1197 : BitVec 32 := 1#32
  let arg13 : BitVec 32 := Scf.iv v922 c1_i32_1197 k1_t65
  let v1828 : Index := Scalar.indexCast arg13
  let c0_1207 : Index := 0#32
  ![v1828.toNat, 0]
def k1_off260 (i : grid1.Coords) (v266 : BitVec 32) (v271 : BitVec 32) (k1_t65 : Fin (k1_t65_loop i v266 v271).trips) : Fin 2 → Nat :=
  let c256_i32_510 : BitVec 32 := 256#32
  let c0_i32_509 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let c1_i32_1197 : BitVec 32 := 1#32
  let arg13 : BitVec 32 := Scf.iv v922 c1_i32_1197 k1_t65
  let v1832 : Index := Scalar.indexCast arg13
  let c16_1208 : Index := 16#32
  ![v1832.toNat, 16]
def k1_off261 (i : grid1.Coords) (v266 : BitVec 32) (v271 : BitVec 32) (k1_t65 : Fin (k1_t65_loop i v266 v271).trips) : Fin 2 → Nat :=
  let c256_i32_510 : BitVec 32 := 256#32
  let c0_i32_509 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let c1_i32_1197 : BitVec 32 := 1#32
  let arg13 : BitVec 32 := Scf.iv v922 c1_i32_1197 k1_t65
  let v1836 : Index := Scalar.indexCast arg13
  let c32_1209 : Index := 32#32
  ![v1836.toNat, 32]
def k1_off262 (i : grid1.Coords) (v266 : BitVec 32) (v271 : BitVec 32) (k1_t65 : Fin (k1_t65_loop i v266 v271).trips) : Fin 2 → Nat :=
  let c256_i32_510 : BitVec 32 := 256#32
  let c0_i32_509 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let c1_i32_1197 : BitVec 32 := 1#32
  let arg13 : BitVec 32 := Scf.iv v922 c1_i32_1197 k1_t65
  let v1840 : Index := Scalar.indexCast arg13
  let c48_1210 : Index := 48#32
  ![v1840.toNat, 48]
@[reducible] def k1_t66_loop (i : grid1.Coords) (v266 : BitVec 32) (v271 : BitVec 32) : Scf.Loop 32 :=
  let c256_i32_510 : BitVec 32 := 256#32
  let c0_i32_509 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let c256_i32_513 : BitVec 32 := 256#32
  let c0_i32_512 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c256_i32_511 : BitVec 32 := 256#32
  let v923 : BitVec 32 := Scalar.subi v274 c256_i32_511
  let v924 : BitVec 32 := Scalar.maxsi c0_i32_512 v923
  let v925 : BitVec 32 := Scalar.minsi c256_i32_513 v924
  let v1805 : BitVec 32 := Scalar.subi v925 v922
  let c1_i32_1196 : BitVec 32 := 1#32
  let v1807 : BitVec 32 := Scalar.divsi v1805 c1_i32_1196
  let v1808 : BitVec 32 := Scalar.muli v1807 c1_i32_1196
  let v1809 : BitVec 32 := Scalar.addi v922 v1808
  let v1806 : BitVec 32 := Scalar.addi v922 v1805
  let c1_i32_1198 : BitVec 32 := 1#32
  ⟨v1809, v1806, c1_i32_1198⟩
def k1_off263 (i : grid1.Coords) (v266 : BitVec 32) (v271 : BitVec 32) (k1_t66 : Fin (k1_t66_loop i v266 v271).trips) : Fin 2 → Nat :=
  let c256_i32_510 : BitVec 32 := 256#32
  let c0_i32_509 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let c256_i32_513 : BitVec 32 := 256#32
  let c0_i32_512 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c256_i32_511 : BitVec 32 := 256#32
  let v923 : BitVec 32 := Scalar.subi v274 c256_i32_511
  let v924 : BitVec 32 := Scalar.maxsi c0_i32_512 v923
  let v925 : BitVec 32 := Scalar.minsi c256_i32_513 v924
  let v1805 : BitVec 32 := Scalar.subi v925 v922
  let c1_i32_1196 : BitVec 32 := 1#32
  let v1807 : BitVec 32 := Scalar.divsi v1805 c1_i32_1196
  let v1808 : BitVec 32 := Scalar.muli v1807 c1_i32_1196
  let v1809 : BitVec 32 := Scalar.addi v922 v1808
  let c1_i32_1198 : BitVec 32 := 1#32
  let arg13 : BitVec 32 := Scf.iv v1809 c1_i32_1198 k1_t66
  let v1828 : Index := Scalar.indexCast arg13
  let c0_1207 : Index := 0#32
  ![v1828.toNat, 0]
def k1_off264 (i : grid1.Coords) (v266 : BitVec 32) (v271 : BitVec 32) (k1_t66 : Fin (k1_t66_loop i v266 v271).trips) : Fin 2 → Nat :=
  let c256_i32_510 : BitVec 32 := 256#32
  let c0_i32_509 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let c256_i32_513 : BitVec 32 := 256#32
  let c0_i32_512 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c256_i32_511 : BitVec 32 := 256#32
  let v923 : BitVec 32 := Scalar.subi v274 c256_i32_511
  let v924 : BitVec 32 := Scalar.maxsi c0_i32_512 v923
  let v925 : BitVec 32 := Scalar.minsi c256_i32_513 v924
  let v1805 : BitVec 32 := Scalar.subi v925 v922
  let c1_i32_1196 : BitVec 32 := 1#32
  let v1807 : BitVec 32 := Scalar.divsi v1805 c1_i32_1196
  let v1808 : BitVec 32 := Scalar.muli v1807 c1_i32_1196
  let v1809 : BitVec 32 := Scalar.addi v922 v1808
  let c1_i32_1198 : BitVec 32 := 1#32
  let arg13 : BitVec 32 := Scf.iv v1809 c1_i32_1198 k1_t66
  let v1832 : Index := Scalar.indexCast arg13
  let c16_1208 : Index := 16#32
  ![v1832.toNat, 16]
def k1_off265 (i : grid1.Coords) (v266 : BitVec 32) (v271 : BitVec 32) (k1_t66 : Fin (k1_t66_loop i v266 v271).trips) : Fin 2 → Nat :=
  let c256_i32_510 : BitVec 32 := 256#32
  let c0_i32_509 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let c256_i32_513 : BitVec 32 := 256#32
  let c0_i32_512 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c256_i32_511 : BitVec 32 := 256#32
  let v923 : BitVec 32 := Scalar.subi v274 c256_i32_511
  let v924 : BitVec 32 := Scalar.maxsi c0_i32_512 v923
  let v925 : BitVec 32 := Scalar.minsi c256_i32_513 v924
  let v1805 : BitVec 32 := Scalar.subi v925 v922
  let c1_i32_1196 : BitVec 32 := 1#32
  let v1807 : BitVec 32 := Scalar.divsi v1805 c1_i32_1196
  let v1808 : BitVec 32 := Scalar.muli v1807 c1_i32_1196
  let v1809 : BitVec 32 := Scalar.addi v922 v1808
  let c1_i32_1198 : BitVec 32 := 1#32
  let arg13 : BitVec 32 := Scf.iv v1809 c1_i32_1198 k1_t66
  let v1836 : Index := Scalar.indexCast arg13
  let c32_1209 : Index := 32#32
  ![v1836.toNat, 32]
def k1_off266 (i : grid1.Coords) (v266 : BitVec 32) (v271 : BitVec 32) (k1_t66 : Fin (k1_t66_loop i v266 v271).trips) : Fin 2 → Nat :=
  let c256_i32_510 : BitVec 32 := 256#32
  let c0_i32_509 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c256_i32_508 : BitVec 32 := 256#32
  let v920 : BitVec 32 := Scalar.subi v269 c256_i32_508
  let v921 : BitVec 32 := Scalar.maxsi c0_i32_509 v920
  let v922 : BitVec 32 := Scalar.minsi c256_i32_510 v921
  let c256_i32_513 : BitVec 32 := 256#32
  let c0_i32_512 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c256_i32_511 : BitVec 32 := 256#32
  let v923 : BitVec 32 := Scalar.subi v274 c256_i32_511
  let v924 : BitVec 32 := Scalar.maxsi c0_i32_512 v923
  let v925 : BitVec 32 := Scalar.minsi c256_i32_513 v924
  let v1805 : BitVec 32 := Scalar.subi v925 v922
  let c1_i32_1196 : BitVec 32 := 1#32
  let v1807 : BitVec 32 := Scalar.divsi v1805 c1_i32_1196
  let v1808 : BitVec 32 := Scalar.muli v1807 c1_i32_1196
  let v1809 : BitVec 32 := Scalar.addi v922 v1808
  let c1_i32_1198 : BitVec 32 := 1#32
  let arg13 : BitVec 32 := Scf.iv v1809 c1_i32_1198 k1_t66
  let v1840 : Index := Scalar.indexCast arg13
  let c48_1210 : Index := 48#32
  ![v1840.toNat, 48]
@[reducible] def k1_t67_loop (i : grid1.Coords) (v276 : BitVec 32) (v282 : BitVec 32) : Scf.Loop 32 :=
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let c256_i32_520 : BitVec 32 := 256#32
  let c0_i32_519 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c256_i32_518 : BitVec 32 := 256#32
  let v932 : BitVec 32 := Scalar.subi v286 c256_i32_518
  let v933 : BitVec 32 := Scalar.maxsi c0_i32_519 v932
  let v934 : BitVec 32 := Scalar.minsi c256_i32_520 v933
  let v1805 : BitVec 32 := Scalar.subi v934 v931
  let c1_i32_1196 : BitVec 32 := 1#32
  let v1807 : BitVec 32 := Scalar.divsi v1805 c1_i32_1196
  let v1808 : BitVec 32 := Scalar.muli v1807 c1_i32_1196
  let v1809 : BitVec 32 := Scalar.addi v931 v1808
  let c1_i32_1197 : BitVec 32 := 1#32
  ⟨v931, v1809, c1_i32_1197⟩
def k1_cond34 (i : grid1.Coords) (v276 : BitVec 32) (v282 : BitVec 32) : BitVec 1 :=
  let c256_i32_520 : BitVec 32 := 256#32
  let c0_i32_519 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v284 : BitVec 32 := Scalar.subi v283 v3
  let v285 : BitVec 32 := Scalar.maxsi c0_i32_119 v284
  let v286 : BitVec 32 := Scalar.minsi c1024_i32_120 v285
  let c256_i32_518 : BitVec 32 := 256#32
  let v932 : BitVec 32 := Scalar.subi v286 c256_i32_518
  let v933 : BitVec 32 := Scalar.maxsi c0_i32_519 v932
  let v934 : BitVec 32 := Scalar.minsi c256_i32_520 v933
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let v935 : BitVec 1 := Scalar.cmpi .sgt v934 v931
  let v936 : BitVec 32 := Scalar.extui v935
  let c0_i32_521 : BitVec 32 := 0#32
  let v937 : BitVec 1 := Scalar.cmpi .ne v936 c0_i32_521
  v937

def k1_off267 (i : grid1.Coords) (v276 : BitVec 32) (v282 : BitVec 32) (k1_t67 : Fin (k1_t67_loop i v276 v282).trips) : Fin 2 → Nat :=
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let c1_i32_1197 : BitVec 32 := 1#32
  let arg13 : BitVec 32 := Scf.iv v931 c1_i32_1197 k1_t67
  let v1828 : Index := Scalar.indexCast arg13
  let c64 : Index := 64#32
  ![v1828.toNat, 64]
def k1_off268 (i : grid1.Coords) (v276 : BitVec 32) (v282 : BitVec 32) (k1_t67 : Fin (k1_t67_loop i v276 v282).trips) : Fin 2 → Nat :=
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let c1_i32_1197 : BitVec 32 := 1#32
  let arg13 : BitVec 32 := Scf.iv v931 c1_i32_1197 k1_t67
  let v1832 : Index := Scalar.indexCast arg13
  let c80 : Index := 80#32
  ![v1832.toNat, 80]
def k1_off269 (i : grid1.Coords) (v276 : BitVec 32) (v282 : BitVec 32) (k1_t67 : Fin (k1_t67_loop i v276 v282).trips) : Fin 2 → Nat :=
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let c1_i32_1197 : BitVec 32 := 1#32
  let arg13 : BitVec 32 := Scf.iv v931 c1_i32_1197 k1_t67
  let v1836 : Index := Scalar.indexCast arg13
  let c96 : Index := 96#32
  ![v1836.toNat, 96]
def k1_off270 (i : grid1.Coords) (v276 : BitVec 32) (v282 : BitVec 32) (k1_t67 : Fin (k1_t67_loop i v276 v282).trips) : Fin 2 → Nat :=
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let c1_i32_1197 : BitVec 32 := 1#32
  let arg13 : BitVec 32 := Scf.iv v931 c1_i32_1197 k1_t67
  let v1840 : Index := Scalar.indexCast arg13
  let c112 : Index := 112#32
  ![v1840.toNat, 112]
@[reducible] def k1_t68_loop (i : grid1.Coords) (v276 : BitVec 32) (v282 : BitVec 32) : Scf.Loop 32 :=
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let c256_i32_520 : BitVec 32 := 256#32
  let c0_i32_519 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c256_i32_518 : BitVec 32 := 256#32
  let v932 : BitVec 32 := Scalar.subi v286 c256_i32_518
  let v933 : BitVec 32 := Scalar.maxsi c0_i32_519 v932
  let v934 : BitVec 32 := Scalar.minsi c256_i32_520 v933
  let v1805 : BitVec 32 := Scalar.subi v934 v931
  let c1_i32_1196 : BitVec 32 := 1#32
  let v1807 : BitVec 32 := Scalar.divsi v1805 c1_i32_1196
  let v1808 : BitVec 32 := Scalar.muli v1807 c1_i32_1196
  let v1809 : BitVec 32 := Scalar.addi v931 v1808
  let v1806 : BitVec 32 := Scalar.addi v931 v1805
  let c1_i32_1198 : BitVec 32 := 1#32
  ⟨v1809, v1806, c1_i32_1198⟩
def k1_off271 (i : grid1.Coords) (v276 : BitVec 32) (v282 : BitVec 32) (k1_t68 : Fin (k1_t68_loop i v276 v282).trips) : Fin 2 → Nat :=
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let c256_i32_520 : BitVec 32 := 256#32
  let c0_i32_519 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c256_i32_518 : BitVec 32 := 256#32
  let v932 : BitVec 32 := Scalar.subi v286 c256_i32_518
  let v933 : BitVec 32 := Scalar.maxsi c0_i32_519 v932
  let v934 : BitVec 32 := Scalar.minsi c256_i32_520 v933
  let v1805 : BitVec 32 := Scalar.subi v934 v931
  let c1_i32_1196 : BitVec 32 := 1#32
  let v1807 : BitVec 32 := Scalar.divsi v1805 c1_i32_1196
  let v1808 : BitVec 32 := Scalar.muli v1807 c1_i32_1196
  let v1809 : BitVec 32 := Scalar.addi v931 v1808
  let c1_i32_1198 : BitVec 32 := 1#32
  let arg13 : BitVec 32 := Scf.iv v1809 c1_i32_1198 k1_t68
  let v1828 : Index := Scalar.indexCast arg13
  let c64 : Index := 64#32
  ![v1828.toNat, 64]
def k1_off272 (i : grid1.Coords) (v276 : BitVec 32) (v282 : BitVec 32) (k1_t68 : Fin (k1_t68_loop i v276 v282).trips) : Fin 2 → Nat :=
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let c256_i32_520 : BitVec 32 := 256#32
  let c0_i32_519 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c256_i32_518 : BitVec 32 := 256#32
  let v932 : BitVec 32 := Scalar.subi v286 c256_i32_518
  let v933 : BitVec 32 := Scalar.maxsi c0_i32_519 v932
  let v934 : BitVec 32 := Scalar.minsi c256_i32_520 v933
  let v1805 : BitVec 32 := Scalar.subi v934 v931
  let c1_i32_1196 : BitVec 32 := 1#32
  let v1807 : BitVec 32 := Scalar.divsi v1805 c1_i32_1196
  let v1808 : BitVec 32 := Scalar.muli v1807 c1_i32_1196
  let v1809 : BitVec 32 := Scalar.addi v931 v1808
  let c1_i32_1198 : BitVec 32 := 1#32
  let arg13 : BitVec 32 := Scf.iv v1809 c1_i32_1198 k1_t68
  let v1832 : Index := Scalar.indexCast arg13
  let c80 : Index := 80#32
  ![v1832.toNat, 80]
def k1_off273 (i : grid1.Coords) (v276 : BitVec 32) (v282 : BitVec 32) (k1_t68 : Fin (k1_t68_loop i v276 v282).trips) : Fin 2 → Nat :=
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let c256_i32_520 : BitVec 32 := 256#32
  let c0_i32_519 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c256_i32_518 : BitVec 32 := 256#32
  let v932 : BitVec 32 := Scalar.subi v286 c256_i32_518
  let v933 : BitVec 32 := Scalar.maxsi c0_i32_519 v932
  let v934 : BitVec 32 := Scalar.minsi c256_i32_520 v933
  let v1805 : BitVec 32 := Scalar.subi v934 v931
  let c1_i32_1196 : BitVec 32 := 1#32
  let v1807 : BitVec 32 := Scalar.divsi v1805 c1_i32_1196
  let v1808 : BitVec 32 := Scalar.muli v1807 c1_i32_1196
  let v1809 : BitVec 32 := Scalar.addi v931 v1808
  let c1_i32_1198 : BitVec 32 := 1#32
  let arg13 : BitVec 32 := Scf.iv v1809 c1_i32_1198 k1_t68
  let v1836 : Index := Scalar.indexCast arg13
  let c96 : Index := 96#32
  ![v1836.toNat, 96]
def k1_off274 (i : grid1.Coords) (v276 : BitVec 32) (v282 : BitVec 32) (k1_t68 : Fin (k1_t68_loop i v276 v282).trips) : Fin 2 → Nat :=
  let c256_i32_517 : BitVec 32 := 256#32
  let c0_i32_516 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c256_i32_515 : BitVec 32 := 256#32
  let v929 : BitVec 32 := Scalar.subi v280 c256_i32_515
  let v930 : BitVec 32 := Scalar.maxsi c0_i32_516 v929
  let v931 : BitVec 32 := Scalar.minsi c256_i32_517 v930
  let c256_i32_520 : BitVec 32 := 256#32
  let c0_i32_519 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c256_i32_518 : BitVec 32 := 256#32
  let v932 : BitVec 32 := Scalar.subi v286 c256_i32_518
  let v933 : BitVec 32 := Scalar.maxsi c0_i32_519 v932
  let v934 : BitVec 32 := Scalar.minsi c256_i32_520 v933
  let v1805 : BitVec 32 := Scalar.subi v934 v931
  let c1_i32_1196 : BitVec 32 := 1#32
  let v1807 : BitVec 32 := Scalar.divsi v1805 c1_i32_1196
  let v1808 : BitVec 32 := Scalar.muli v1807 c1_i32_1196
  let v1809 : BitVec 32 := Scalar.addi v931 v1808
  let c1_i32_1198 : BitVec 32 := 1#32
  let arg13 : BitVec 32 := Scf.iv v1809 c1_i32_1198 k1_t68
  let v1840 : Index := Scalar.indexCast arg13
  let c112 : Index := 112#32
  ![v1840.toNat, 112]
@[reducible] def k1_t69_loop (i : grid1.Coords) (v288 : BitVec 32) (v293 : BitVec 32) : Scf.Loop 32 :=
  let c256_i32_524 : BitVec 32 := 256#32
  let c0_i32_523 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let c256_i32_527 : BitVec 32 := 256#32
  let c0_i32_526 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c256_i32_525 : BitVec 32 := 256#32
  let v941 : BitVec 32 := Scalar.subi v296 c256_i32_525
  let v942 : BitVec 32 := Scalar.maxsi c0_i32_526 v941
  let v943 : BitVec 32 := Scalar.minsi c256_i32_527 v942
  let v1805 : BitVec 32 := Scalar.subi v943 v940
  let c1_i32_1196 : BitVec 32 := 1#32
  let v1807 : BitVec 32 := Scalar.divsi v1805 c1_i32_1196
  let v1808 : BitVec 32 := Scalar.muli v1807 c1_i32_1196
  let v1809 : BitVec 32 := Scalar.addi v940 v1808
  let c1_i32_1197 : BitVec 32 := 1#32
  ⟨v940, v1809, c1_i32_1197⟩
def k1_cond35 (i : grid1.Coords) (v288 : BitVec 32) (v293 : BitVec 32) : BitVec 1 :=
  let c256_i32_527 : BitVec 32 := 256#32
  let c0_i32_526 : BitVec 32 := 0#32
  let c1024_i32_124 : BitVec 32 := 1024#32
  let c0_i32_123 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v294 : BitVec 32 := Scalar.subi v293 v3
  let v295 : BitVec 32 := Scalar.maxsi c0_i32_123 v294
  let v296 : BitVec 32 := Scalar.minsi c1024_i32_124 v295
  let c256_i32_525 : BitVec 32 := 256#32
  let v941 : BitVec 32 := Scalar.subi v296 c256_i32_525
  let v942 : BitVec 32 := Scalar.maxsi c0_i32_526 v941
  let v943 : BitVec 32 := Scalar.minsi c256_i32_527 v942
  let c256_i32_524 : BitVec 32 := 256#32
  let c0_i32_523 : BitVec 32 := 0#32
  let c1024_i32_122 : BitVec 32 := 1024#32
  let c0_i32_121 : BitVec 32 := 0#32
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let v944 : BitVec 1 := Scalar.cmpi .sgt v943 v940
  let v945 : BitVec 32 := Scalar.extui v944
  let c0_i32_528 : BitVec 32 := 0#32
  let v946 : BitVec 1 := Scalar.cmpi .ne v945 c0_i32_528
  v946

def k1_off275 (i : grid1.Coords) (v288 : BitVec 32) (v293 : BitVec 32) (k1_t69 : Fin (k1_t69_loop i v288 v293).trips) : Fin 2 → Nat :=
  let c256_i32_524 : BitVec 32 := 256#32
  let c0_i32_523 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let c1_i32_1197 : BitVec 32 := 1#32
  let arg13 : BitVec 32 := Scf.iv v940 c1_i32_1197 k1_t69
  let v1828 : Index := Scalar.indexCast arg13
  let c0_1207 : Index := 0#32
  ![v1828.toNat, 0]
def k1_off276 (i : grid1.Coords) (v288 : BitVec 32) (v293 : BitVec 32) (k1_t69 : Fin (k1_t69_loop i v288 v293).trips) : Fin 2 → Nat :=
  let c256_i32_524 : BitVec 32 := 256#32
  let c0_i32_523 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let c1_i32_1197 : BitVec 32 := 1#32
  let arg13 : BitVec 32 := Scf.iv v940 c1_i32_1197 k1_t69
  let v1832 : Index := Scalar.indexCast arg13
  let c16_1208 : Index := 16#32
  ![v1832.toNat, 16]
def k1_off277 (i : grid1.Coords) (v288 : BitVec 32) (v293 : BitVec 32) (k1_t69 : Fin (k1_t69_loop i v288 v293).trips) : Fin 2 → Nat :=
  let c256_i32_524 : BitVec 32 := 256#32
  let c0_i32_523 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let c1_i32_1197 : BitVec 32 := 1#32
  let arg13 : BitVec 32 := Scf.iv v940 c1_i32_1197 k1_t69
  let v1836 : Index := Scalar.indexCast arg13
  let c32_1209 : Index := 32#32
  ![v1836.toNat, 32]
def k1_off278 (i : grid1.Coords) (v288 : BitVec 32) (v293 : BitVec 32) (k1_t69 : Fin (k1_t69_loop i v288 v293).trips) : Fin 2 → Nat :=
  let c256_i32_524 : BitVec 32 := 256#32
  let c0_i32_523 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let c1_i32_1197 : BitVec 32 := 1#32
  let arg13 : BitVec 32 := Scf.iv v940 c1_i32_1197 k1_t69
  let v1840 : Index := Scalar.indexCast arg13
  let c48_1210 : Index := 48#32
  ![v1840.toNat, 48]
@[reducible] def k1_t70_loop (i : grid1.Coords) (v288 : BitVec 32) (v293 : BitVec 32) : Scf.Loop 32 :=
  let c256_i32_524 : BitVec 32 := 256#32
  let c0_i32_523 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let c256_i32_527 : BitVec 32 := 256#32
  let c0_i32_526 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c256_i32_525 : BitVec 32 := 256#32
  let v941 : BitVec 32 := Scalar.subi v296 c256_i32_525
  let v942 : BitVec 32 := Scalar.maxsi c0_i32_526 v941
  let v943 : BitVec 32 := Scalar.minsi c256_i32_527 v942
  let v1805 : BitVec 32 := Scalar.subi v943 v940
  let c1_i32_1196 : BitVec 32 := 1#32
  let v1807 : BitVec 32 := Scalar.divsi v1805 c1_i32_1196
  let v1808 : BitVec 32 := Scalar.muli v1807 c1_i32_1196
  let v1809 : BitVec 32 := Scalar.addi v940 v1808
  let v1806 : BitVec 32 := Scalar.addi v940 v1805
  let c1_i32_1198 : BitVec 32 := 1#32
  ⟨v1809, v1806, c1_i32_1198⟩
def k1_off279 (i : grid1.Coords) (v288 : BitVec 32) (v293 : BitVec 32) (k1_t70 : Fin (k1_t70_loop i v288 v293).trips) : Fin 2 → Nat :=
  let c256_i32_524 : BitVec 32 := 256#32
  let c0_i32_523 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let c256_i32_527 : BitVec 32 := 256#32
  let c0_i32_526 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c256_i32_525 : BitVec 32 := 256#32
  let v941 : BitVec 32 := Scalar.subi v296 c256_i32_525
  let v942 : BitVec 32 := Scalar.maxsi c0_i32_526 v941
  let v943 : BitVec 32 := Scalar.minsi c256_i32_527 v942
  let v1805 : BitVec 32 := Scalar.subi v943 v940
  let c1_i32_1196 : BitVec 32 := 1#32
  let v1807 : BitVec 32 := Scalar.divsi v1805 c1_i32_1196
  let v1808 : BitVec 32 := Scalar.muli v1807 c1_i32_1196
  let v1809 : BitVec 32 := Scalar.addi v940 v1808
  let c1_i32_1198 : BitVec 32 := 1#32
  let arg13 : BitVec 32 := Scf.iv v1809 c1_i32_1198 k1_t70
  let v1828 : Index := Scalar.indexCast arg13
  let c0_1207 : Index := 0#32
  ![v1828.toNat, 0]
def k1_off280 (i : grid1.Coords) (v288 : BitVec 32) (v293 : BitVec 32) (k1_t70 : Fin (k1_t70_loop i v288 v293).trips) : Fin 2 → Nat :=
  let c256_i32_524 : BitVec 32 := 256#32
  let c0_i32_523 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let c256_i32_527 : BitVec 32 := 256#32
  let c0_i32_526 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c256_i32_525 : BitVec 32 := 256#32
  let v941 : BitVec 32 := Scalar.subi v296 c256_i32_525
  let v942 : BitVec 32 := Scalar.maxsi c0_i32_526 v941
  let v943 : BitVec 32 := Scalar.minsi c256_i32_527 v942
  let v1805 : BitVec 32 := Scalar.subi v943 v940
  let c1_i32_1196 : BitVec 32 := 1#32
  let v1807 : BitVec 32 := Scalar.divsi v1805 c1_i32_1196
  let v1808 : BitVec 32 := Scalar.muli v1807 c1_i32_1196
  let v1809 : BitVec 32 := Scalar.addi v940 v1808
  let c1_i32_1198 : BitVec 32 := 1#32
  let arg13 : BitVec 32 := Scf.iv v1809 c1_i32_1198 k1_t70
  let v1832 : Index := Scalar.indexCast arg13
  let c16_1208 : Index := 16#32
  ![v1832.toNat, 16]
def k1_off281 (i : grid1.Coords) (v288 : BitVec 32) (v293 : BitVec 32) (k1_t70 : Fin (k1_t70_loop i v288 v293).trips) : Fin 2 → Nat :=
  let c256_i32_524 : BitVec 32 := 256#32
  let c0_i32_523 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let c256_i32_527 : BitVec 32 := 256#32
  let c0_i32_526 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c256_i32_525 : BitVec 32 := 256#32
  let v941 : BitVec 32 := Scalar.subi v296 c256_i32_525
  let v942 : BitVec 32 := Scalar.maxsi c0_i32_526 v941
  let v943 : BitVec 32 := Scalar.minsi c256_i32_527 v942
  let v1805 : BitVec 32 := Scalar.subi v943 v940
  let c1_i32_1196 : BitVec 32 := 1#32
  let v1807 : BitVec 32 := Scalar.divsi v1805 c1_i32_1196
  let v1808 : BitVec 32 := Scalar.muli v1807 c1_i32_1196
  let v1809 : BitVec 32 := Scalar.addi v940 v1808
  let c1_i32_1198 : BitVec 32 := 1#32
  let arg13 : BitVec 32 := Scf.iv v1809 c1_i32_1198 k1_t70
  let v1836 : Index := Scalar.indexCast arg13
  let c32_1209 : Index := 32#32
  ![v1836.toNat, 32]
def k1_off282 (i : grid1.Coords) (v288 : BitVec 32) (v293 : BitVec 32) (k1_t70 : Fin (k1_t70_loop i v288 v293).trips) : Fin 2 → Nat :=
  let c256_i32_524 : BitVec 32 := 256#32
  let c0_i32_523 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c256_i32_522 : BitVec 32 := 256#32
  let v938 : BitVec 32 := Scalar.subi v291 c256_i32_522
  let v939 : BitVec 32 := Scalar.maxsi c0_i32_523 v938
  let v940 : BitVec 32 := Scalar.minsi c256_i32_524 v939
  let c256_i32_527 : BitVec 32 := 256#32
  let c0_i32_526 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c256_i32_525 : BitVec 32 := 256#32
  let v941 : BitVec 32 := Scalar.subi v296 c256_i32_525
  let v942 : BitVec 32 := Scalar.maxsi c0_i32_526 v941
  let v943 : BitVec 32 := Scalar.minsi c256_i32_527 v942
  let v1805 : BitVec 32 := Scalar.subi v943 v940
  let c1_i32_1196 : BitVec 32 := 1#32
  let v1807 : BitVec 32 := Scalar.divsi v1805 c1_i32_1196
  let v1808 : BitVec 32 := Scalar.muli v1807 c1_i32_1196
  let v1809 : BitVec 32 := Scalar.addi v940 v1808
  let c1_i32_1198 : BitVec 32 := 1#32
  let arg13 : BitVec 32 := Scf.iv v1809 c1_i32_1198 k1_t70
  let v1840 : Index := Scalar.indexCast arg13
  let c48_1210 : Index := 48#32
  ![v1840.toNat, 48]
@[reducible] def k1_t71_loop (i : grid1.Coords) (v298 : BitVec 32) (v304 : BitVec 32) : Scf.Loop 32 :=
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let c256_i32_534 : BitVec 32 := 256#32
  let c0_i32_533 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c256_i32_532 : BitVec 32 := 256#32
  let v950 : BitVec 32 := Scalar.subi v308 c256_i32_532
  let v951 : BitVec 32 := Scalar.maxsi c0_i32_533 v950
  let v952 : BitVec 32 := Scalar.minsi c256_i32_534 v951
  let v1805 : BitVec 32 := Scalar.subi v952 v949
  let c1_i32_1196 : BitVec 32 := 1#32
  let v1807 : BitVec 32 := Scalar.divsi v1805 c1_i32_1196
  let v1808 : BitVec 32 := Scalar.muli v1807 c1_i32_1196
  let v1809 : BitVec 32 := Scalar.addi v949 v1808
  let c1_i32_1197 : BitVec 32 := 1#32
  ⟨v949, v1809, c1_i32_1197⟩
def k1_cond36 (i : grid1.Coords) (v298 : BitVec 32) (v304 : BitVec 32) : BitVec 1 :=
  let c256_i32_534 : BitVec 32 := 256#32
  let c0_i32_533 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v306 : BitVec 32 := Scalar.subi v305 v3
  let v307 : BitVec 32 := Scalar.maxsi c0_i32_129 v306
  let v308 : BitVec 32 := Scalar.minsi c1024_i32_130 v307
  let c256_i32_532 : BitVec 32 := 256#32
  let v950 : BitVec 32 := Scalar.subi v308 c256_i32_532
  let v951 : BitVec 32 := Scalar.maxsi c0_i32_533 v950
  let v952 : BitVec 32 := Scalar.minsi c256_i32_534 v951
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let v953 : BitVec 1 := Scalar.cmpi .sgt v952 v949
  let v954 : BitVec 32 := Scalar.extui v953
  let c0_i32_535 : BitVec 32 := 0#32
  let v955 : BitVec 1 := Scalar.cmpi .ne v954 c0_i32_535
  v955

def k1_off283 (i : grid1.Coords) (v298 : BitVec 32) (v304 : BitVec 32) (k1_t71 : Fin (k1_t71_loop i v298 v304).trips) : Fin 2 → Nat :=
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let c1_i32_1197 : BitVec 32 := 1#32
  let arg13 : BitVec 32 := Scf.iv v949 c1_i32_1197 k1_t71
  let v1828 : Index := Scalar.indexCast arg13
  let c64 : Index := 64#32
  ![v1828.toNat, 64]
def k1_off284 (i : grid1.Coords) (v298 : BitVec 32) (v304 : BitVec 32) (k1_t71 : Fin (k1_t71_loop i v298 v304).trips) : Fin 2 → Nat :=
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let c1_i32_1197 : BitVec 32 := 1#32
  let arg13 : BitVec 32 := Scf.iv v949 c1_i32_1197 k1_t71
  let v1832 : Index := Scalar.indexCast arg13
  let c80 : Index := 80#32
  ![v1832.toNat, 80]
def k1_off285 (i : grid1.Coords) (v298 : BitVec 32) (v304 : BitVec 32) (k1_t71 : Fin (k1_t71_loop i v298 v304).trips) : Fin 2 → Nat :=
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let c1_i32_1197 : BitVec 32 := 1#32
  let arg13 : BitVec 32 := Scf.iv v949 c1_i32_1197 k1_t71
  let v1836 : Index := Scalar.indexCast arg13
  let c96 : Index := 96#32
  ![v1836.toNat, 96]
def k1_off286 (i : grid1.Coords) (v298 : BitVec 32) (v304 : BitVec 32) (k1_t71 : Fin (k1_t71_loop i v298 v304).trips) : Fin 2 → Nat :=
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let c1_i32_1197 : BitVec 32 := 1#32
  let arg13 : BitVec 32 := Scf.iv v949 c1_i32_1197 k1_t71
  let v1840 : Index := Scalar.indexCast arg13
  let c112 : Index := 112#32
  ![v1840.toNat, 112]
@[reducible] def k1_t72_loop (i : grid1.Coords) (v298 : BitVec 32) (v304 : BitVec 32) : Scf.Loop 32 :=
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let c256_i32_534 : BitVec 32 := 256#32
  let c0_i32_533 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c256_i32_532 : BitVec 32 := 256#32
  let v950 : BitVec 32 := Scalar.subi v308 c256_i32_532
  let v951 : BitVec 32 := Scalar.maxsi c0_i32_533 v950
  let v952 : BitVec 32 := Scalar.minsi c256_i32_534 v951
  let v1805 : BitVec 32 := Scalar.subi v952 v949
  let c1_i32_1196 : BitVec 32 := 1#32
  let v1807 : BitVec 32 := Scalar.divsi v1805 c1_i32_1196
  let v1808 : BitVec 32 := Scalar.muli v1807 c1_i32_1196
  let v1809 : BitVec 32 := Scalar.addi v949 v1808
  let v1806 : BitVec 32 := Scalar.addi v949 v1805
  let c1_i32_1198 : BitVec 32 := 1#32
  ⟨v1809, v1806, c1_i32_1198⟩
def k1_off287 (i : grid1.Coords) (v298 : BitVec 32) (v304 : BitVec 32) (k1_t72 : Fin (k1_t72_loop i v298 v304).trips) : Fin 2 → Nat :=
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let c256_i32_534 : BitVec 32 := 256#32
  let c0_i32_533 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c256_i32_532 : BitVec 32 := 256#32
  let v950 : BitVec 32 := Scalar.subi v308 c256_i32_532
  let v951 : BitVec 32 := Scalar.maxsi c0_i32_533 v950
  let v952 : BitVec 32 := Scalar.minsi c256_i32_534 v951
  let v1805 : BitVec 32 := Scalar.subi v952 v949
  let c1_i32_1196 : BitVec 32 := 1#32
  let v1807 : BitVec 32 := Scalar.divsi v1805 c1_i32_1196
  let v1808 : BitVec 32 := Scalar.muli v1807 c1_i32_1196
  let v1809 : BitVec 32 := Scalar.addi v949 v1808
  let c1_i32_1198 : BitVec 32 := 1#32
  let arg13 : BitVec 32 := Scf.iv v1809 c1_i32_1198 k1_t72
  let v1828 : Index := Scalar.indexCast arg13
  let c64 : Index := 64#32
  ![v1828.toNat, 64]
def k1_off288 (i : grid1.Coords) (v298 : BitVec 32) (v304 : BitVec 32) (k1_t72 : Fin (k1_t72_loop i v298 v304).trips) : Fin 2 → Nat :=
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let c256_i32_534 : BitVec 32 := 256#32
  let c0_i32_533 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c256_i32_532 : BitVec 32 := 256#32
  let v950 : BitVec 32 := Scalar.subi v308 c256_i32_532
  let v951 : BitVec 32 := Scalar.maxsi c0_i32_533 v950
  let v952 : BitVec 32 := Scalar.minsi c256_i32_534 v951
  let v1805 : BitVec 32 := Scalar.subi v952 v949
  let c1_i32_1196 : BitVec 32 := 1#32
  let v1807 : BitVec 32 := Scalar.divsi v1805 c1_i32_1196
  let v1808 : BitVec 32 := Scalar.muli v1807 c1_i32_1196
  let v1809 : BitVec 32 := Scalar.addi v949 v1808
  let c1_i32_1198 : BitVec 32 := 1#32
  let arg13 : BitVec 32 := Scf.iv v1809 c1_i32_1198 k1_t72
  let v1832 : Index := Scalar.indexCast arg13
  let c80 : Index := 80#32
  ![v1832.toNat, 80]
def k1_off289 (i : grid1.Coords) (v298 : BitVec 32) (v304 : BitVec 32) (k1_t72 : Fin (k1_t72_loop i v298 v304).trips) : Fin 2 → Nat :=
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let c256_i32_534 : BitVec 32 := 256#32
  let c0_i32_533 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c256_i32_532 : BitVec 32 := 256#32
  let v950 : BitVec 32 := Scalar.subi v308 c256_i32_532
  let v951 : BitVec 32 := Scalar.maxsi c0_i32_533 v950
  let v952 : BitVec 32 := Scalar.minsi c256_i32_534 v951
  let v1805 : BitVec 32 := Scalar.subi v952 v949
  let c1_i32_1196 : BitVec 32 := 1#32
  let v1807 : BitVec 32 := Scalar.divsi v1805 c1_i32_1196
  let v1808 : BitVec 32 := Scalar.muli v1807 c1_i32_1196
  let v1809 : BitVec 32 := Scalar.addi v949 v1808
  let c1_i32_1198 : BitVec 32 := 1#32
  let arg13 : BitVec 32 := Scf.iv v1809 c1_i32_1198 k1_t72
  let v1836 : Index := Scalar.indexCast arg13
  let c96 : Index := 96#32
  ![v1836.toNat, 96]
def k1_off290 (i : grid1.Coords) (v298 : BitVec 32) (v304 : BitVec 32) (k1_t72 : Fin (k1_t72_loop i v298 v304).trips) : Fin 2 → Nat :=
  let c256_i32_531 : BitVec 32 := 256#32
  let c0_i32_530 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c256_i32_529 : BitVec 32 := 256#32
  let v947 : BitVec 32 := Scalar.subi v302 c256_i32_529
  let v948 : BitVec 32 := Scalar.maxsi c0_i32_530 v947
  let v949 : BitVec 32 := Scalar.minsi c256_i32_531 v948
  let c256_i32_534 : BitVec 32 := 256#32
  let c0_i32_533 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c256_i32_532 : BitVec 32 := 256#32
  let v950 : BitVec 32 := Scalar.subi v308 c256_i32_532
  let v951 : BitVec 32 := Scalar.maxsi c0_i32_533 v950
  let v952 : BitVec 32 := Scalar.minsi c256_i32_534 v951
  let v1805 : BitVec 32 := Scalar.subi v952 v949
  let c1_i32_1196 : BitVec 32 := 1#32
  let v1807 : BitVec 32 := Scalar.divsi v1805 c1_i32_1196
  let v1808 : BitVec 32 := Scalar.muli v1807 c1_i32_1196
  let v1809 : BitVec 32 := Scalar.addi v949 v1808
  let c1_i32_1198 : BitVec 32 := 1#32
  let arg13 : BitVec 32 := Scf.iv v1809 c1_i32_1198 k1_t72
  let v1840 : Index := Scalar.indexCast arg13
  let c112 : Index := 112#32
  ![v1840.toNat, 112]
@[reducible] def k1_t73_loop (i : grid1.Coords) (v310 : BitVec 32) (v315 : BitVec 32) : Scf.Loop 32 :=
  let c256_i32_538 : BitVec 32 := 256#32
  let c0_i32_537 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let c256_i32_541 : BitVec 32 := 256#32
  let c0_i32_540 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c256_i32_539 : BitVec 32 := 256#32
  let v959 : BitVec 32 := Scalar.subi v318 c256_i32_539
  let v960 : BitVec 32 := Scalar.maxsi c0_i32_540 v959
  let v961 : BitVec 32 := Scalar.minsi c256_i32_541 v960
  let v1805 : BitVec 32 := Scalar.subi v961 v958
  let c1_i32_1196 : BitVec 32 := 1#32
  let v1807 : BitVec 32 := Scalar.divsi v1805 c1_i32_1196
  let v1808 : BitVec 32 := Scalar.muli v1807 c1_i32_1196
  let v1809 : BitVec 32 := Scalar.addi v958 v1808
  let c1_i32_1197 : BitVec 32 := 1#32
  ⟨v958, v1809, c1_i32_1197⟩
def k1_cond37 (i : grid1.Coords) (v310 : BitVec 32) (v315 : BitVec 32) : BitVec 1 :=
  let c256_i32_541 : BitVec 32 := 256#32
  let c0_i32_540 : BitVec 32 := 0#32
  let c1024_i32_134 : BitVec 32 := 1024#32
  let c0_i32_133 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v316 : BitVec 32 := Scalar.subi v315 v3
  let v317 : BitVec 32 := Scalar.maxsi c0_i32_133 v316
  let v318 : BitVec 32 := Scalar.minsi c1024_i32_134 v317
  let c256_i32_539 : BitVec 32 := 256#32
  let v959 : BitVec 32 := Scalar.subi v318 c256_i32_539
  let v960 : BitVec 32 := Scalar.maxsi c0_i32_540 v959
  let v961 : BitVec 32 := Scalar.minsi c256_i32_541 v960
  let c256_i32_538 : BitVec 32 := 256#32
  let c0_i32_537 : BitVec 32 := 0#32
  let c1024_i32_132 : BitVec 32 := 1024#32
  let c0_i32_131 : BitVec 32 := 0#32
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let v962 : BitVec 1 := Scalar.cmpi .sgt v961 v958
  let v963 : BitVec 32 := Scalar.extui v962
  let c0_i32_542 : BitVec 32 := 0#32
  let v964 : BitVec 1 := Scalar.cmpi .ne v963 c0_i32_542
  v964

def k1_off291 (i : grid1.Coords) (v310 : BitVec 32) (v315 : BitVec 32) (k1_t73 : Fin (k1_t73_loop i v310 v315).trips) : Fin 2 → Nat :=
  let c256_i32_538 : BitVec 32 := 256#32
  let c0_i32_537 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let c1_i32_1197 : BitVec 32 := 1#32
  let arg13 : BitVec 32 := Scf.iv v958 c1_i32_1197 k1_t73
  let v1828 : Index := Scalar.indexCast arg13
  let c0_1207 : Index := 0#32
  ![v1828.toNat, 0]
def k1_off292 (i : grid1.Coords) (v310 : BitVec 32) (v315 : BitVec 32) (k1_t73 : Fin (k1_t73_loop i v310 v315).trips) : Fin 2 → Nat :=
  let c256_i32_538 : BitVec 32 := 256#32
  let c0_i32_537 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let c1_i32_1197 : BitVec 32 := 1#32
  let arg13 : BitVec 32 := Scf.iv v958 c1_i32_1197 k1_t73
  let v1832 : Index := Scalar.indexCast arg13
  let c16_1208 : Index := 16#32
  ![v1832.toNat, 16]
def k1_off293 (i : grid1.Coords) (v310 : BitVec 32) (v315 : BitVec 32) (k1_t73 : Fin (k1_t73_loop i v310 v315).trips) : Fin 2 → Nat :=
  let c256_i32_538 : BitVec 32 := 256#32
  let c0_i32_537 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let c1_i32_1197 : BitVec 32 := 1#32
  let arg13 : BitVec 32 := Scf.iv v958 c1_i32_1197 k1_t73
  let v1836 : Index := Scalar.indexCast arg13
  let c32_1209 : Index := 32#32
  ![v1836.toNat, 32]
def k1_off294 (i : grid1.Coords) (v310 : BitVec 32) (v315 : BitVec 32) (k1_t73 : Fin (k1_t73_loop i v310 v315).trips) : Fin 2 → Nat :=
  let c256_i32_538 : BitVec 32 := 256#32
  let c0_i32_537 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let c1_i32_1197 : BitVec 32 := 1#32
  let arg13 : BitVec 32 := Scf.iv v958 c1_i32_1197 k1_t73
  let v1840 : Index := Scalar.indexCast arg13
  let c48_1210 : Index := 48#32
  ![v1840.toNat, 48]
@[reducible] def k1_t74_loop (i : grid1.Coords) (v310 : BitVec 32) (v315 : BitVec 32) : Scf.Loop 32 :=
  let c256_i32_538 : BitVec 32 := 256#32
  let c0_i32_537 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let c256_i32_541 : BitVec 32 := 256#32
  let c0_i32_540 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c256_i32_539 : BitVec 32 := 256#32
  let v959 : BitVec 32 := Scalar.subi v318 c256_i32_539
  let v960 : BitVec 32 := Scalar.maxsi c0_i32_540 v959
  let v961 : BitVec 32 := Scalar.minsi c256_i32_541 v960
  let v1805 : BitVec 32 := Scalar.subi v961 v958
  let c1_i32_1196 : BitVec 32 := 1#32
  let v1807 : BitVec 32 := Scalar.divsi v1805 c1_i32_1196
  let v1808 : BitVec 32 := Scalar.muli v1807 c1_i32_1196
  let v1809 : BitVec 32 := Scalar.addi v958 v1808
  let v1806 : BitVec 32 := Scalar.addi v958 v1805
  let c1_i32_1198 : BitVec 32 := 1#32
  ⟨v1809, v1806, c1_i32_1198⟩
def k1_off295 (i : grid1.Coords) (v310 : BitVec 32) (v315 : BitVec 32) (k1_t74 : Fin (k1_t74_loop i v310 v315).trips) : Fin 2 → Nat :=
  let c256_i32_538 : BitVec 32 := 256#32
  let c0_i32_537 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let c256_i32_541 : BitVec 32 := 256#32
  let c0_i32_540 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c256_i32_539 : BitVec 32 := 256#32
  let v959 : BitVec 32 := Scalar.subi v318 c256_i32_539
  let v960 : BitVec 32 := Scalar.maxsi c0_i32_540 v959
  let v961 : BitVec 32 := Scalar.minsi c256_i32_541 v960
  let v1805 : BitVec 32 := Scalar.subi v961 v958
  let c1_i32_1196 : BitVec 32 := 1#32
  let v1807 : BitVec 32 := Scalar.divsi v1805 c1_i32_1196
  let v1808 : BitVec 32 := Scalar.muli v1807 c1_i32_1196
  let v1809 : BitVec 32 := Scalar.addi v958 v1808
  let c1_i32_1198 : BitVec 32 := 1#32
  let arg13 : BitVec 32 := Scf.iv v1809 c1_i32_1198 k1_t74
  let v1828 : Index := Scalar.indexCast arg13
  let c0_1207 : Index := 0#32
  ![v1828.toNat, 0]
def k1_off296 (i : grid1.Coords) (v310 : BitVec 32) (v315 : BitVec 32) (k1_t74 : Fin (k1_t74_loop i v310 v315).trips) : Fin 2 → Nat :=
  let c256_i32_538 : BitVec 32 := 256#32
  let c0_i32_537 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let c256_i32_541 : BitVec 32 := 256#32
  let c0_i32_540 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c256_i32_539 : BitVec 32 := 256#32
  let v959 : BitVec 32 := Scalar.subi v318 c256_i32_539
  let v960 : BitVec 32 := Scalar.maxsi c0_i32_540 v959
  let v961 : BitVec 32 := Scalar.minsi c256_i32_541 v960
  let v1805 : BitVec 32 := Scalar.subi v961 v958
  let c1_i32_1196 : BitVec 32 := 1#32
  let v1807 : BitVec 32 := Scalar.divsi v1805 c1_i32_1196
  let v1808 : BitVec 32 := Scalar.muli v1807 c1_i32_1196
  let v1809 : BitVec 32 := Scalar.addi v958 v1808
  let c1_i32_1198 : BitVec 32 := 1#32
  let arg13 : BitVec 32 := Scf.iv v1809 c1_i32_1198 k1_t74
  let v1832 : Index := Scalar.indexCast arg13
  let c16_1208 : Index := 16#32
  ![v1832.toNat, 16]
def k1_off297 (i : grid1.Coords) (v310 : BitVec 32) (v315 : BitVec 32) (k1_t74 : Fin (k1_t74_loop i v310 v315).trips) : Fin 2 → Nat :=
  let c256_i32_538 : BitVec 32 := 256#32
  let c0_i32_537 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let c256_i32_541 : BitVec 32 := 256#32
  let c0_i32_540 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c256_i32_539 : BitVec 32 := 256#32
  let v959 : BitVec 32 := Scalar.subi v318 c256_i32_539
  let v960 : BitVec 32 := Scalar.maxsi c0_i32_540 v959
  let v961 : BitVec 32 := Scalar.minsi c256_i32_541 v960
  let v1805 : BitVec 32 := Scalar.subi v961 v958
  let c1_i32_1196 : BitVec 32 := 1#32
  let v1807 : BitVec 32 := Scalar.divsi v1805 c1_i32_1196
  let v1808 : BitVec 32 := Scalar.muli v1807 c1_i32_1196
  let v1809 : BitVec 32 := Scalar.addi v958 v1808
  let c1_i32_1198 : BitVec 32 := 1#32
  let arg13 : BitVec 32 := Scf.iv v1809 c1_i32_1198 k1_t74
  let v1836 : Index := Scalar.indexCast arg13
  let c32_1209 : Index := 32#32
  ![v1836.toNat, 32]
def k1_off298 (i : grid1.Coords) (v310 : BitVec 32) (v315 : BitVec 32) (k1_t74 : Fin (k1_t74_loop i v310 v315).trips) : Fin 2 → Nat :=
  let c256_i32_538 : BitVec 32 := 256#32
  let c0_i32_537 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c256_i32_536 : BitVec 32 := 256#32
  let v956 : BitVec 32 := Scalar.subi v313 c256_i32_536
  let v957 : BitVec 32 := Scalar.maxsi c0_i32_537 v956
  let v958 : BitVec 32 := Scalar.minsi c256_i32_538 v957
  let c256_i32_541 : BitVec 32 := 256#32
  let c0_i32_540 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c256_i32_539 : BitVec 32 := 256#32
  let v959 : BitVec 32 := Scalar.subi v318 c256_i32_539
  let v960 : BitVec 32 := Scalar.maxsi c0_i32_540 v959
  let v961 : BitVec 32 := Scalar.minsi c256_i32_541 v960
  let v1805 : BitVec 32 := Scalar.subi v961 v958
  let c1_i32_1196 : BitVec 32 := 1#32
  let v1807 : BitVec 32 := Scalar.divsi v1805 c1_i32_1196
  let v1808 : BitVec 32 := Scalar.muli v1807 c1_i32_1196
  let v1809 : BitVec 32 := Scalar.addi v958 v1808
  let c1_i32_1198 : BitVec 32 := 1#32
  let arg13 : BitVec 32 := Scf.iv v1809 c1_i32_1198 k1_t74
  let v1840 : Index := Scalar.indexCast arg13
  let c48_1210 : Index := 48#32
  ![v1840.toNat, 48]
@[reducible] def k1_t75_loop (i : grid1.Coords) (v320 : BitVec 32) (v326 : BitVec 32) : Scf.Loop 32 :=
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let c256_i32_548 : BitVec 32 := 256#32
  let c0_i32_547 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c256_i32_546 : BitVec 32 := 256#32
  let v968 : BitVec 32 := Scalar.subi v330 c256_i32_546
  let v969 : BitVec 32 := Scalar.maxsi c0_i32_547 v968
  let v970 : BitVec 32 := Scalar.minsi c256_i32_548 v969
  let v1805 : BitVec 32 := Scalar.subi v970 v967
  let c1_i32_1196 : BitVec 32 := 1#32
  let v1807 : BitVec 32 := Scalar.divsi v1805 c1_i32_1196
  let v1808 : BitVec 32 := Scalar.muli v1807 c1_i32_1196
  let v1809 : BitVec 32 := Scalar.addi v967 v1808
  let c1_i32_1197 : BitVec 32 := 1#32
  ⟨v967, v1809, c1_i32_1197⟩
def k1_cond38 (i : grid1.Coords) (v320 : BitVec 32) (v326 : BitVec 32) : BitVec 1 :=
  let c256_i32_548 : BitVec 32 := 256#32
  let c0_i32_547 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v328 : BitVec 32 := Scalar.subi v327 v3
  let v329 : BitVec 32 := Scalar.maxsi c0_i32_139 v328
  let v330 : BitVec 32 := Scalar.minsi c1024_i32_140 v329
  let c256_i32_546 : BitVec 32 := 256#32
  let v968 : BitVec 32 := Scalar.subi v330 c256_i32_546
  let v969 : BitVec 32 := Scalar.maxsi c0_i32_547 v968
  let v970 : BitVec 32 := Scalar.minsi c256_i32_548 v969
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let v971 : BitVec 1 := Scalar.cmpi .sgt v970 v967
  let v972 : BitVec 32 := Scalar.extui v971
  let c0_i32_549 : BitVec 32 := 0#32
  let v973 : BitVec 1 := Scalar.cmpi .ne v972 c0_i32_549
  v973

def k1_off299 (i : grid1.Coords) (v320 : BitVec 32) (v326 : BitVec 32) (k1_t75 : Fin (k1_t75_loop i v320 v326).trips) : Fin 2 → Nat :=
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let c1_i32_1197 : BitVec 32 := 1#32
  let arg13 : BitVec 32 := Scf.iv v967 c1_i32_1197 k1_t75
  let v1828 : Index := Scalar.indexCast arg13
  let c64 : Index := 64#32
  ![v1828.toNat, 64]
def k1_off300 (i : grid1.Coords) (v320 : BitVec 32) (v326 : BitVec 32) (k1_t75 : Fin (k1_t75_loop i v320 v326).trips) : Fin 2 → Nat :=
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let c1_i32_1197 : BitVec 32 := 1#32
  let arg13 : BitVec 32 := Scf.iv v967 c1_i32_1197 k1_t75
  let v1832 : Index := Scalar.indexCast arg13
  let c80 : Index := 80#32
  ![v1832.toNat, 80]
def k1_off301 (i : grid1.Coords) (v320 : BitVec 32) (v326 : BitVec 32) (k1_t75 : Fin (k1_t75_loop i v320 v326).trips) : Fin 2 → Nat :=
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let c1_i32_1197 : BitVec 32 := 1#32
  let arg13 : BitVec 32 := Scf.iv v967 c1_i32_1197 k1_t75
  let v1836 : Index := Scalar.indexCast arg13
  let c96 : Index := 96#32
  ![v1836.toNat, 96]
def k1_off302 (i : grid1.Coords) (v320 : BitVec 32) (v326 : BitVec 32) (k1_t75 : Fin (k1_t75_loop i v320 v326).trips) : Fin 2 → Nat :=
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let c1_i32_1197 : BitVec 32 := 1#32
  let arg13 : BitVec 32 := Scf.iv v967 c1_i32_1197 k1_t75
  let v1840 : Index := Scalar.indexCast arg13
  let c112 : Index := 112#32
  ![v1840.toNat, 112]
@[reducible] def k1_t76_loop (i : grid1.Coords) (v320 : BitVec 32) (v326 : BitVec 32) : Scf.Loop 32 :=
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let c256_i32_548 : BitVec 32 := 256#32
  let c0_i32_547 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c256_i32_546 : BitVec 32 := 256#32
  let v968 : BitVec 32 := Scalar.subi v330 c256_i32_546
  let v969 : BitVec 32 := Scalar.maxsi c0_i32_547 v968
  let v970 : BitVec 32 := Scalar.minsi c256_i32_548 v969
  let v1805 : BitVec 32 := Scalar.subi v970 v967
  let c1_i32_1196 : BitVec 32 := 1#32
  let v1807 : BitVec 32 := Scalar.divsi v1805 c1_i32_1196
  let v1808 : BitVec 32 := Scalar.muli v1807 c1_i32_1196
  let v1809 : BitVec 32 := Scalar.addi v967 v1808
  let v1806 : BitVec 32 := Scalar.addi v967 v1805
  let c1_i32_1198 : BitVec 32 := 1#32
  ⟨v1809, v1806, c1_i32_1198⟩
def k1_off303 (i : grid1.Coords) (v320 : BitVec 32) (v326 : BitVec 32) (k1_t76 : Fin (k1_t76_loop i v320 v326).trips) : Fin 2 → Nat :=
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let c256_i32_548 : BitVec 32 := 256#32
  let c0_i32_547 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c256_i32_546 : BitVec 32 := 256#32
  let v968 : BitVec 32 := Scalar.subi v330 c256_i32_546
  let v969 : BitVec 32 := Scalar.maxsi c0_i32_547 v968
  let v970 : BitVec 32 := Scalar.minsi c256_i32_548 v969
  let v1805 : BitVec 32 := Scalar.subi v970 v967
  let c1_i32_1196 : BitVec 32 := 1#32
  let v1807 : BitVec 32 := Scalar.divsi v1805 c1_i32_1196
  let v1808 : BitVec 32 := Scalar.muli v1807 c1_i32_1196
  let v1809 : BitVec 32 := Scalar.addi v967 v1808
  let c1_i32_1198 : BitVec 32 := 1#32
  let arg13 : BitVec 32 := Scf.iv v1809 c1_i32_1198 k1_t76
  let v1828 : Index := Scalar.indexCast arg13
  let c64 : Index := 64#32
  ![v1828.toNat, 64]
def k1_off304 (i : grid1.Coords) (v320 : BitVec 32) (v326 : BitVec 32) (k1_t76 : Fin (k1_t76_loop i v320 v326).trips) : Fin 2 → Nat :=
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let c256_i32_548 : BitVec 32 := 256#32
  let c0_i32_547 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c256_i32_546 : BitVec 32 := 256#32
  let v968 : BitVec 32 := Scalar.subi v330 c256_i32_546
  let v969 : BitVec 32 := Scalar.maxsi c0_i32_547 v968
  let v970 : BitVec 32 := Scalar.minsi c256_i32_548 v969
  let v1805 : BitVec 32 := Scalar.subi v970 v967
  let c1_i32_1196 : BitVec 32 := 1#32
  let v1807 : BitVec 32 := Scalar.divsi v1805 c1_i32_1196
  let v1808 : BitVec 32 := Scalar.muli v1807 c1_i32_1196
  let v1809 : BitVec 32 := Scalar.addi v967 v1808
  let c1_i32_1198 : BitVec 32 := 1#32
  let arg13 : BitVec 32 := Scf.iv v1809 c1_i32_1198 k1_t76
  let v1832 : Index := Scalar.indexCast arg13
  let c80 : Index := 80#32
  ![v1832.toNat, 80]
def k1_off305 (i : grid1.Coords) (v320 : BitVec 32) (v326 : BitVec 32) (k1_t76 : Fin (k1_t76_loop i v320 v326).trips) : Fin 2 → Nat :=
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let c256_i32_548 : BitVec 32 := 256#32
  let c0_i32_547 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c256_i32_546 : BitVec 32 := 256#32
  let v968 : BitVec 32 := Scalar.subi v330 c256_i32_546
  let v969 : BitVec 32 := Scalar.maxsi c0_i32_547 v968
  let v970 : BitVec 32 := Scalar.minsi c256_i32_548 v969
  let v1805 : BitVec 32 := Scalar.subi v970 v967
  let c1_i32_1196 : BitVec 32 := 1#32
  let v1807 : BitVec 32 := Scalar.divsi v1805 c1_i32_1196
  let v1808 : BitVec 32 := Scalar.muli v1807 c1_i32_1196
  let v1809 : BitVec 32 := Scalar.addi v967 v1808
  let c1_i32_1198 : BitVec 32 := 1#32
  let arg13 : BitVec 32 := Scf.iv v1809 c1_i32_1198 k1_t76
  let v1836 : Index := Scalar.indexCast arg13
  let c96 : Index := 96#32
  ![v1836.toNat, 96]
def k1_off306 (i : grid1.Coords) (v320 : BitVec 32) (v326 : BitVec 32) (k1_t76 : Fin (k1_t76_loop i v320 v326).trips) : Fin 2 → Nat :=
  let c256_i32_545 : BitVec 32 := 256#32
  let c0_i32_544 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c256_i32_543 : BitVec 32 := 256#32
  let v965 : BitVec 32 := Scalar.subi v324 c256_i32_543
  let v966 : BitVec 32 := Scalar.maxsi c0_i32_544 v965
  let v967 : BitVec 32 := Scalar.minsi c256_i32_545 v966
  let c256_i32_548 : BitVec 32 := 256#32
  let c0_i32_547 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c256_i32_546 : BitVec 32 := 256#32
  let v968 : BitVec 32 := Scalar.subi v330 c256_i32_546
  let v969 : BitVec 32 := Scalar.maxsi c0_i32_547 v968
  let v970 : BitVec 32 := Scalar.minsi c256_i32_548 v969
  let v1805 : BitVec 32 := Scalar.subi v970 v967
  let c1_i32_1196 : BitVec 32 := 1#32
  let v1807 : BitVec 32 := Scalar.divsi v1805 c1_i32_1196
  let v1808 : BitVec 32 := Scalar.muli v1807 c1_i32_1196
  let v1809 : BitVec 32 := Scalar.addi v967 v1808
  let c1_i32_1198 : BitVec 32 := 1#32
  let arg13 : BitVec 32 := Scf.iv v1809 c1_i32_1198 k1_t76
  let v1840 : Index := Scalar.indexCast arg13
  let c112 : Index := 112#32
  ![v1840.toNat, 112]
@[reducible] def k1_t77_loop (i : grid1.Coords) (v332 : BitVec 32) (v337 : BitVec 32) : Scf.Loop 32 :=
  let c256_i32_552 : BitVec 32 := 256#32
  let c0_i32_551 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let c256_i32_555 : BitVec 32 := 256#32
  let c0_i32_554 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c256_i32_553 : BitVec 32 := 256#32
  let v977 : BitVec 32 := Scalar.subi v340 c256_i32_553
  let v978 : BitVec 32 := Scalar.maxsi c0_i32_554 v977
  let v979 : BitVec 32 := Scalar.minsi c256_i32_555 v978
  let v1805 : BitVec 32 := Scalar.subi v979 v976
  let c1_i32_1196 : BitVec 32 := 1#32
  let v1807 : BitVec 32 := Scalar.divsi v1805 c1_i32_1196
  let v1808 : BitVec 32 := Scalar.muli v1807 c1_i32_1196
  let v1809 : BitVec 32 := Scalar.addi v976 v1808
  let c1_i32_1197 : BitVec 32 := 1#32
  ⟨v976, v1809, c1_i32_1197⟩
def k1_cond39 (i : grid1.Coords) (v332 : BitVec 32) (v337 : BitVec 32) : BitVec 1 :=
  let c256_i32_555 : BitVec 32 := 256#32
  let c0_i32_554 : BitVec 32 := 0#32
  let c1024_i32_144 : BitVec 32 := 1024#32
  let c0_i32_143 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v338 : BitVec 32 := Scalar.subi v337 v3
  let v339 : BitVec 32 := Scalar.maxsi c0_i32_143 v338
  let v340 : BitVec 32 := Scalar.minsi c1024_i32_144 v339
  let c256_i32_553 : BitVec 32 := 256#32
  let v977 : BitVec 32 := Scalar.subi v340 c256_i32_553
  let v978 : BitVec 32 := Scalar.maxsi c0_i32_554 v977
  let v979 : BitVec 32 := Scalar.minsi c256_i32_555 v978
  let c256_i32_552 : BitVec 32 := 256#32
  let c0_i32_551 : BitVec 32 := 0#32
  let c1024_i32_142 : BitVec 32 := 1024#32
  let c0_i32_141 : BitVec 32 := 0#32
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let v980 : BitVec 1 := Scalar.cmpi .sgt v979 v976
  let v981 : BitVec 32 := Scalar.extui v980
  let c0_i32_556 : BitVec 32 := 0#32
  let v982 : BitVec 1 := Scalar.cmpi .ne v981 c0_i32_556
  v982

def k1_off307 (i : grid1.Coords) (v332 : BitVec 32) (v337 : BitVec 32) (k1_t77 : Fin (k1_t77_loop i v332 v337).trips) : Fin 2 → Nat :=
  let c256_i32_552 : BitVec 32 := 256#32
  let c0_i32_551 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let c1_i32_1197 : BitVec 32 := 1#32
  let arg13 : BitVec 32 := Scf.iv v976 c1_i32_1197 k1_t77
  let v1828 : Index := Scalar.indexCast arg13
  let c0_1207 : Index := 0#32
  ![v1828.toNat, 0]
def k1_off308 (i : grid1.Coords) (v332 : BitVec 32) (v337 : BitVec 32) (k1_t77 : Fin (k1_t77_loop i v332 v337).trips) : Fin 2 → Nat :=
  let c256_i32_552 : BitVec 32 := 256#32
  let c0_i32_551 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let c1_i32_1197 : BitVec 32 := 1#32
  let arg13 : BitVec 32 := Scf.iv v976 c1_i32_1197 k1_t77
  let v1832 : Index := Scalar.indexCast arg13
  let c16_1208 : Index := 16#32
  ![v1832.toNat, 16]
def k1_off309 (i : grid1.Coords) (v332 : BitVec 32) (v337 : BitVec 32) (k1_t77 : Fin (k1_t77_loop i v332 v337).trips) : Fin 2 → Nat :=
  let c256_i32_552 : BitVec 32 := 256#32
  let c0_i32_551 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let c1_i32_1197 : BitVec 32 := 1#32
  let arg13 : BitVec 32 := Scf.iv v976 c1_i32_1197 k1_t77
  let v1836 : Index := Scalar.indexCast arg13
  let c32_1209 : Index := 32#32
  ![v1836.toNat, 32]
def k1_off310 (i : grid1.Coords) (v332 : BitVec 32) (v337 : BitVec 32) (k1_t77 : Fin (k1_t77_loop i v332 v337).trips) : Fin 2 → Nat :=
  let c256_i32_552 : BitVec 32 := 256#32
  let c0_i32_551 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let c1_i32_1197 : BitVec 32 := 1#32
  let arg13 : BitVec 32 := Scf.iv v976 c1_i32_1197 k1_t77
  let v1840 : Index := Scalar.indexCast arg13
  let c48_1210 : Index := 48#32
  ![v1840.toNat, 48]
@[reducible] def k1_t78_loop (i : grid1.Coords) (v332 : BitVec 32) (v337 : BitVec 32) : Scf.Loop 32 :=
  let c256_i32_552 : BitVec 32 := 256#32
  let c0_i32_551 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let c256_i32_555 : BitVec 32 := 256#32
  let c0_i32_554 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c256_i32_553 : BitVec 32 := 256#32
  let v977 : BitVec 32 := Scalar.subi v340 c256_i32_553
  let v978 : BitVec 32 := Scalar.maxsi c0_i32_554 v977
  let v979 : BitVec 32 := Scalar.minsi c256_i32_555 v978
  let v1805 : BitVec 32 := Scalar.subi v979 v976
  let c1_i32_1196 : BitVec 32 := 1#32
  let v1807 : BitVec 32 := Scalar.divsi v1805 c1_i32_1196
  let v1808 : BitVec 32 := Scalar.muli v1807 c1_i32_1196
  let v1809 : BitVec 32 := Scalar.addi v976 v1808
  let v1806 : BitVec 32 := Scalar.addi v976 v1805
  let c1_i32_1198 : BitVec 32 := 1#32
  ⟨v1809, v1806, c1_i32_1198⟩
def k1_off311 (i : grid1.Coords) (v332 : BitVec 32) (v337 : BitVec 32) (k1_t78 : Fin (k1_t78_loop i v332 v337).trips) : Fin 2 → Nat :=
  let c256_i32_552 : BitVec 32 := 256#32
  let c0_i32_551 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let c256_i32_555 : BitVec 32 := 256#32
  let c0_i32_554 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c256_i32_553 : BitVec 32 := 256#32
  let v977 : BitVec 32 := Scalar.subi v340 c256_i32_553
  let v978 : BitVec 32 := Scalar.maxsi c0_i32_554 v977
  let v979 : BitVec 32 := Scalar.minsi c256_i32_555 v978
  let v1805 : BitVec 32 := Scalar.subi v979 v976
  let c1_i32_1196 : BitVec 32 := 1#32
  let v1807 : BitVec 32 := Scalar.divsi v1805 c1_i32_1196
  let v1808 : BitVec 32 := Scalar.muli v1807 c1_i32_1196
  let v1809 : BitVec 32 := Scalar.addi v976 v1808
  let c1_i32_1198 : BitVec 32 := 1#32
  let arg13 : BitVec 32 := Scf.iv v1809 c1_i32_1198 k1_t78
  let v1828 : Index := Scalar.indexCast arg13
  let c0_1207 : Index := 0#32
  ![v1828.toNat, 0]
def k1_off312 (i : grid1.Coords) (v332 : BitVec 32) (v337 : BitVec 32) (k1_t78 : Fin (k1_t78_loop i v332 v337).trips) : Fin 2 → Nat :=
  let c256_i32_552 : BitVec 32 := 256#32
  let c0_i32_551 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let c256_i32_555 : BitVec 32 := 256#32
  let c0_i32_554 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c256_i32_553 : BitVec 32 := 256#32
  let v977 : BitVec 32 := Scalar.subi v340 c256_i32_553
  let v978 : BitVec 32 := Scalar.maxsi c0_i32_554 v977
  let v979 : BitVec 32 := Scalar.minsi c256_i32_555 v978
  let v1805 : BitVec 32 := Scalar.subi v979 v976
  let c1_i32_1196 : BitVec 32 := 1#32
  let v1807 : BitVec 32 := Scalar.divsi v1805 c1_i32_1196
  let v1808 : BitVec 32 := Scalar.muli v1807 c1_i32_1196
  let v1809 : BitVec 32 := Scalar.addi v976 v1808
  let c1_i32_1198 : BitVec 32 := 1#32
  let arg13 : BitVec 32 := Scf.iv v1809 c1_i32_1198 k1_t78
  let v1832 : Index := Scalar.indexCast arg13
  let c16_1208 : Index := 16#32
  ![v1832.toNat, 16]
def k1_off313 (i : grid1.Coords) (v332 : BitVec 32) (v337 : BitVec 32) (k1_t78 : Fin (k1_t78_loop i v332 v337).trips) : Fin 2 → Nat :=
  let c256_i32_552 : BitVec 32 := 256#32
  let c0_i32_551 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let c256_i32_555 : BitVec 32 := 256#32
  let c0_i32_554 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c256_i32_553 : BitVec 32 := 256#32
  let v977 : BitVec 32 := Scalar.subi v340 c256_i32_553
  let v978 : BitVec 32 := Scalar.maxsi c0_i32_554 v977
  let v979 : BitVec 32 := Scalar.minsi c256_i32_555 v978
  let v1805 : BitVec 32 := Scalar.subi v979 v976
  let c1_i32_1196 : BitVec 32 := 1#32
  let v1807 : BitVec 32 := Scalar.divsi v1805 c1_i32_1196
  let v1808 : BitVec 32 := Scalar.muli v1807 c1_i32_1196
  let v1809 : BitVec 32 := Scalar.addi v976 v1808
  let c1_i32_1198 : BitVec 32 := 1#32
  let arg13 : BitVec 32 := Scf.iv v1809 c1_i32_1198 k1_t78
  let v1836 : Index := Scalar.indexCast arg13
  let c32_1209 : Index := 32#32
  ![v1836.toNat, 32]
def k1_off314 (i : grid1.Coords) (v332 : BitVec 32) (v337 : BitVec 32) (k1_t78 : Fin (k1_t78_loop i v332 v337).trips) : Fin 2 → Nat :=
  let c256_i32_552 : BitVec 32 := 256#32
  let c0_i32_551 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c256_i32_550 : BitVec 32 := 256#32
  let v974 : BitVec 32 := Scalar.subi v335 c256_i32_550
  let v975 : BitVec 32 := Scalar.maxsi c0_i32_551 v974
  let v976 : BitVec 32 := Scalar.minsi c256_i32_552 v975
  let c256_i32_555 : BitVec 32 := 256#32
  let c0_i32_554 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c256_i32_553 : BitVec 32 := 256#32
  let v977 : BitVec 32 := Scalar.subi v340 c256_i32_553
  let v978 : BitVec 32 := Scalar.maxsi c0_i32_554 v977
  let v979 : BitVec 32 := Scalar.minsi c256_i32_555 v978
  let v1805 : BitVec 32 := Scalar.subi v979 v976
  let c1_i32_1196 : BitVec 32 := 1#32
  let v1807 : BitVec 32 := Scalar.divsi v1805 c1_i32_1196
  let v1808 : BitVec 32 := Scalar.muli v1807 c1_i32_1196
  let v1809 : BitVec 32 := Scalar.addi v976 v1808
  let c1_i32_1198 : BitVec 32 := 1#32
  let arg13 : BitVec 32 := Scf.iv v1809 c1_i32_1198 k1_t78
  let v1840 : Index := Scalar.indexCast arg13
  let c48_1210 : Index := 48#32
  ![v1840.toNat, 48]
@[reducible] def k1_t79_loop (i : grid1.Coords) (v342 : BitVec 32) (v348 : BitVec 32) : Scf.Loop 32 :=
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let c256_i32_562 : BitVec 32 := 256#32
  let c0_i32_561 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c256_i32_560 : BitVec 32 := 256#32
  let v986 : BitVec 32 := Scalar.subi v352 c256_i32_560
  let v987 : BitVec 32 := Scalar.maxsi c0_i32_561 v986
  let v988 : BitVec 32 := Scalar.minsi c256_i32_562 v987
  let v1805 : BitVec 32 := Scalar.subi v988 v985
  let c1_i32_1196 : BitVec 32 := 1#32
  let v1807 : BitVec 32 := Scalar.divsi v1805 c1_i32_1196
  let v1808 : BitVec 32 := Scalar.muli v1807 c1_i32_1196
  let v1809 : BitVec 32 := Scalar.addi v985 v1808
  let c1_i32_1197 : BitVec 32 := 1#32
  ⟨v985, v1809, c1_i32_1197⟩
def k1_cond40 (i : grid1.Coords) (v342 : BitVec 32) (v348 : BitVec 32) : BitVec 1 :=
  let c256_i32_562 : BitVec 32 := 256#32
  let c0_i32_561 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v350 : BitVec 32 := Scalar.subi v349 v3
  let v351 : BitVec 32 := Scalar.maxsi c0_i32_149 v350
  let v352 : BitVec 32 := Scalar.minsi c1024_i32_150 v351
  let c256_i32_560 : BitVec 32 := 256#32
  let v986 : BitVec 32 := Scalar.subi v352 c256_i32_560
  let v987 : BitVec 32 := Scalar.maxsi c0_i32_561 v986
  let v988 : BitVec 32 := Scalar.minsi c256_i32_562 v987
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let v989 : BitVec 1 := Scalar.cmpi .sgt v988 v985
  let v990 : BitVec 32 := Scalar.extui v989
  let c0_i32_563 : BitVec 32 := 0#32
  let v991 : BitVec 1 := Scalar.cmpi .ne v990 c0_i32_563
  v991

def k1_off315 (i : grid1.Coords) (v342 : BitVec 32) (v348 : BitVec 32) (k1_t79 : Fin (k1_t79_loop i v342 v348).trips) : Fin 2 → Nat :=
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let c1_i32_1197 : BitVec 32 := 1#32
  let arg13 : BitVec 32 := Scf.iv v985 c1_i32_1197 k1_t79
  let v1828 : Index := Scalar.indexCast arg13
  let c64 : Index := 64#32
  ![v1828.toNat, 64]
def k1_off316 (i : grid1.Coords) (v342 : BitVec 32) (v348 : BitVec 32) (k1_t79 : Fin (k1_t79_loop i v342 v348).trips) : Fin 2 → Nat :=
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let c1_i32_1197 : BitVec 32 := 1#32
  let arg13 : BitVec 32 := Scf.iv v985 c1_i32_1197 k1_t79
  let v1832 : Index := Scalar.indexCast arg13
  let c80 : Index := 80#32
  ![v1832.toNat, 80]
def k1_off317 (i : grid1.Coords) (v342 : BitVec 32) (v348 : BitVec 32) (k1_t79 : Fin (k1_t79_loop i v342 v348).trips) : Fin 2 → Nat :=
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let c1_i32_1197 : BitVec 32 := 1#32
  let arg13 : BitVec 32 := Scf.iv v985 c1_i32_1197 k1_t79
  let v1836 : Index := Scalar.indexCast arg13
  let c96 : Index := 96#32
  ![v1836.toNat, 96]
def k1_off318 (i : grid1.Coords) (v342 : BitVec 32) (v348 : BitVec 32) (k1_t79 : Fin (k1_t79_loop i v342 v348).trips) : Fin 2 → Nat :=
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let c1_i32_1197 : BitVec 32 := 1#32
  let arg13 : BitVec 32 := Scf.iv v985 c1_i32_1197 k1_t79
  let v1840 : Index := Scalar.indexCast arg13
  let c112 : Index := 112#32
  ![v1840.toNat, 112]
@[reducible] def k1_t80_loop (i : grid1.Coords) (v342 : BitVec 32) (v348 : BitVec 32) : Scf.Loop 32 :=
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let c256_i32_562 : BitVec 32 := 256#32
  let c0_i32_561 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c256_i32_560 : BitVec 32 := 256#32
  let v986 : BitVec 32 := Scalar.subi v352 c256_i32_560
  let v987 : BitVec 32 := Scalar.maxsi c0_i32_561 v986
  let v988 : BitVec 32 := Scalar.minsi c256_i32_562 v987
  let v1805 : BitVec 32 := Scalar.subi v988 v985
  let c1_i32_1196 : BitVec 32 := 1#32
  let v1807 : BitVec 32 := Scalar.divsi v1805 c1_i32_1196
  let v1808 : BitVec 32 := Scalar.muli v1807 c1_i32_1196
  let v1809 : BitVec 32 := Scalar.addi v985 v1808
  let v1806 : BitVec 32 := Scalar.addi v985 v1805
  let c1_i32_1198 : BitVec 32 := 1#32
  ⟨v1809, v1806, c1_i32_1198⟩
def k1_off319 (i : grid1.Coords) (v342 : BitVec 32) (v348 : BitVec 32) (k1_t80 : Fin (k1_t80_loop i v342 v348).trips) : Fin 2 → Nat :=
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let c256_i32_562 : BitVec 32 := 256#32
  let c0_i32_561 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c256_i32_560 : BitVec 32 := 256#32
  let v986 : BitVec 32 := Scalar.subi v352 c256_i32_560
  let v987 : BitVec 32 := Scalar.maxsi c0_i32_561 v986
  let v988 : BitVec 32 := Scalar.minsi c256_i32_562 v987
  let v1805 : BitVec 32 := Scalar.subi v988 v985
  let c1_i32_1196 : BitVec 32 := 1#32
  let v1807 : BitVec 32 := Scalar.divsi v1805 c1_i32_1196
  let v1808 : BitVec 32 := Scalar.muli v1807 c1_i32_1196
  let v1809 : BitVec 32 := Scalar.addi v985 v1808
  let c1_i32_1198 : BitVec 32 := 1#32
  let arg13 : BitVec 32 := Scf.iv v1809 c1_i32_1198 k1_t80
  let v1828 : Index := Scalar.indexCast arg13
  let c64 : Index := 64#32
  ![v1828.toNat, 64]
def k1_off320 (i : grid1.Coords) (v342 : BitVec 32) (v348 : BitVec 32) (k1_t80 : Fin (k1_t80_loop i v342 v348).trips) : Fin 2 → Nat :=
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let c256_i32_562 : BitVec 32 := 256#32
  let c0_i32_561 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c256_i32_560 : BitVec 32 := 256#32
  let v986 : BitVec 32 := Scalar.subi v352 c256_i32_560
  let v987 : BitVec 32 := Scalar.maxsi c0_i32_561 v986
  let v988 : BitVec 32 := Scalar.minsi c256_i32_562 v987
  let v1805 : BitVec 32 := Scalar.subi v988 v985
  let c1_i32_1196 : BitVec 32 := 1#32
  let v1807 : BitVec 32 := Scalar.divsi v1805 c1_i32_1196
  let v1808 : BitVec 32 := Scalar.muli v1807 c1_i32_1196
  let v1809 : BitVec 32 := Scalar.addi v985 v1808
  let c1_i32_1198 : BitVec 32 := 1#32
  let arg13 : BitVec 32 := Scf.iv v1809 c1_i32_1198 k1_t80
  let v1832 : Index := Scalar.indexCast arg13
  let c80 : Index := 80#32
  ![v1832.toNat, 80]
def k1_off321 (i : grid1.Coords) (v342 : BitVec 32) (v348 : BitVec 32) (k1_t80 : Fin (k1_t80_loop i v342 v348).trips) : Fin 2 → Nat :=
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let c256_i32_562 : BitVec 32 := 256#32
  let c0_i32_561 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c256_i32_560 : BitVec 32 := 256#32
  let v986 : BitVec 32 := Scalar.subi v352 c256_i32_560
  let v987 : BitVec 32 := Scalar.maxsi c0_i32_561 v986
  let v988 : BitVec 32 := Scalar.minsi c256_i32_562 v987
  let v1805 : BitVec 32 := Scalar.subi v988 v985
  let c1_i32_1196 : BitVec 32 := 1#32
  let v1807 : BitVec 32 := Scalar.divsi v1805 c1_i32_1196
  let v1808 : BitVec 32 := Scalar.muli v1807 c1_i32_1196
  let v1809 : BitVec 32 := Scalar.addi v985 v1808
  let c1_i32_1198 : BitVec 32 := 1#32
  let arg13 : BitVec 32 := Scf.iv v1809 c1_i32_1198 k1_t80
  let v1836 : Index := Scalar.indexCast arg13
  let c96 : Index := 96#32
  ![v1836.toNat, 96]
def k1_off322 (i : grid1.Coords) (v342 : BitVec 32) (v348 : BitVec 32) (k1_t80 : Fin (k1_t80_loop i v342 v348).trips) : Fin 2 → Nat :=
  let c256_i32_559 : BitVec 32 := 256#32
  let c0_i32_558 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c256_i32_557 : BitVec 32 := 256#32
  let v983 : BitVec 32 := Scalar.subi v346 c256_i32_557
  let v984 : BitVec 32 := Scalar.maxsi c0_i32_558 v983
  let v985 : BitVec 32 := Scalar.minsi c256_i32_559 v984
  let c256_i32_562 : BitVec 32 := 256#32
  let c0_i32_561 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c256_i32_560 : BitVec 32 := 256#32
  let v986 : BitVec 32 := Scalar.subi v352 c256_i32_560
  let v987 : BitVec 32 := Scalar.maxsi c0_i32_561 v986
  let v988 : BitVec 32 := Scalar.minsi c256_i32_562 v987
  let v1805 : BitVec 32 := Scalar.subi v988 v985
  let c1_i32_1196 : BitVec 32 := 1#32
  let v1807 : BitVec 32 := Scalar.divsi v1805 c1_i32_1196
  let v1808 : BitVec 32 := Scalar.muli v1807 c1_i32_1196
  let v1809 : BitVec 32 := Scalar.addi v985 v1808
  let c1_i32_1198 : BitVec 32 := 1#32
  let arg13 : BitVec 32 := Scf.iv v1809 c1_i32_1198 k1_t80
  let v1840 : Index := Scalar.indexCast arg13
  let c112 : Index := 112#32
  ![v1840.toNat, 112]
@[reducible] def k1_t81_loop (i : grid1.Coords) (v354 : BitVec 32) (v359 : BitVec 32) : Scf.Loop 32 :=
  let c256_i32_566 : BitVec 32 := 256#32
  let c0_i32_565 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let c256_i32_569 : BitVec 32 := 256#32
  let c0_i32_568 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c256_i32_567 : BitVec 32 := 256#32
  let v995 : BitVec 32 := Scalar.subi v362 c256_i32_567
  let v996 : BitVec 32 := Scalar.maxsi c0_i32_568 v995
  let v997 : BitVec 32 := Scalar.minsi c256_i32_569 v996
  let v1805 : BitVec 32 := Scalar.subi v997 v994
  let c1_i32_1196 : BitVec 32 := 1#32
  let v1807 : BitVec 32 := Scalar.divsi v1805 c1_i32_1196
  let v1808 : BitVec 32 := Scalar.muli v1807 c1_i32_1196
  let v1809 : BitVec 32 := Scalar.addi v994 v1808
  let c1_i32_1197 : BitVec 32 := 1#32
  ⟨v994, v1809, c1_i32_1197⟩
def k1_cond41 (i : grid1.Coords) (v354 : BitVec 32) (v359 : BitVec 32) : BitVec 1 :=
  let c256_i32_569 : BitVec 32 := 256#32
  let c0_i32_568 : BitVec 32 := 0#32
  let c1024_i32_154 : BitVec 32 := 1024#32
  let c0_i32_153 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v360 : BitVec 32 := Scalar.subi v359 v3
  let v361 : BitVec 32 := Scalar.maxsi c0_i32_153 v360
  let v362 : BitVec 32 := Scalar.minsi c1024_i32_154 v361
  let c256_i32_567 : BitVec 32 := 256#32
  let v995 : BitVec 32 := Scalar.subi v362 c256_i32_567
  let v996 : BitVec 32 := Scalar.maxsi c0_i32_568 v995
  let v997 : BitVec 32 := Scalar.minsi c256_i32_569 v996
  let c256_i32_566 : BitVec 32 := 256#32
  let c0_i32_565 : BitVec 32 := 0#32
  let c1024_i32_152 : BitVec 32 := 1024#32
  let c0_i32_151 : BitVec 32 := 0#32
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let v998 : BitVec 1 := Scalar.cmpi .sgt v997 v994
  let v999 : BitVec 32 := Scalar.extui v998
  let c0_i32_570 : BitVec 32 := 0#32
  let v1000 : BitVec 1 := Scalar.cmpi .ne v999 c0_i32_570
  v1000

def k1_off323 (i : grid1.Coords) (v354 : BitVec 32) (v359 : BitVec 32) (k1_t81 : Fin (k1_t81_loop i v354 v359).trips) : Fin 2 → Nat :=
  let c256_i32_566 : BitVec 32 := 256#32
  let c0_i32_565 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let c1_i32_1197 : BitVec 32 := 1#32
  let arg13 : BitVec 32 := Scf.iv v994 c1_i32_1197 k1_t81
  let v1828 : Index := Scalar.indexCast arg13
  let c0_1207 : Index := 0#32
  ![v1828.toNat, 0]
def k1_off324 (i : grid1.Coords) (v354 : BitVec 32) (v359 : BitVec 32) (k1_t81 : Fin (k1_t81_loop i v354 v359).trips) : Fin 2 → Nat :=
  let c256_i32_566 : BitVec 32 := 256#32
  let c0_i32_565 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let c1_i32_1197 : BitVec 32 := 1#32
  let arg13 : BitVec 32 := Scf.iv v994 c1_i32_1197 k1_t81
  let v1832 : Index := Scalar.indexCast arg13
  let c16_1208 : Index := 16#32
  ![v1832.toNat, 16]
def k1_off325 (i : grid1.Coords) (v354 : BitVec 32) (v359 : BitVec 32) (k1_t81 : Fin (k1_t81_loop i v354 v359).trips) : Fin 2 → Nat :=
  let c256_i32_566 : BitVec 32 := 256#32
  let c0_i32_565 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let c1_i32_1197 : BitVec 32 := 1#32
  let arg13 : BitVec 32 := Scf.iv v994 c1_i32_1197 k1_t81
  let v1836 : Index := Scalar.indexCast arg13
  let c32_1209 : Index := 32#32
  ![v1836.toNat, 32]
def k1_off326 (i : grid1.Coords) (v354 : BitVec 32) (v359 : BitVec 32) (k1_t81 : Fin (k1_t81_loop i v354 v359).trips) : Fin 2 → Nat :=
  let c256_i32_566 : BitVec 32 := 256#32
  let c0_i32_565 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let c1_i32_1197 : BitVec 32 := 1#32
  let arg13 : BitVec 32 := Scf.iv v994 c1_i32_1197 k1_t81
  let v1840 : Index := Scalar.indexCast arg13
  let c48_1210 : Index := 48#32
  ![v1840.toNat, 48]
@[reducible] def k1_t82_loop (i : grid1.Coords) (v354 : BitVec 32) (v359 : BitVec 32) : Scf.Loop 32 :=
  let c256_i32_566 : BitVec 32 := 256#32
  let c0_i32_565 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let c256_i32_569 : BitVec 32 := 256#32
  let c0_i32_568 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c256_i32_567 : BitVec 32 := 256#32
  let v995 : BitVec 32 := Scalar.subi v362 c256_i32_567
  let v996 : BitVec 32 := Scalar.maxsi c0_i32_568 v995
  let v997 : BitVec 32 := Scalar.minsi c256_i32_569 v996
  let v1805 : BitVec 32 := Scalar.subi v997 v994
  let c1_i32_1196 : BitVec 32 := 1#32
  let v1807 : BitVec 32 := Scalar.divsi v1805 c1_i32_1196
  let v1808 : BitVec 32 := Scalar.muli v1807 c1_i32_1196
  let v1809 : BitVec 32 := Scalar.addi v994 v1808
  let v1806 : BitVec 32 := Scalar.addi v994 v1805
  let c1_i32_1198 : BitVec 32 := 1#32
  ⟨v1809, v1806, c1_i32_1198⟩
def k1_off327 (i : grid1.Coords) (v354 : BitVec 32) (v359 : BitVec 32) (k1_t82 : Fin (k1_t82_loop i v354 v359).trips) : Fin 2 → Nat :=
  let c256_i32_566 : BitVec 32 := 256#32
  let c0_i32_565 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let c256_i32_569 : BitVec 32 := 256#32
  let c0_i32_568 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c256_i32_567 : BitVec 32 := 256#32
  let v995 : BitVec 32 := Scalar.subi v362 c256_i32_567
  let v996 : BitVec 32 := Scalar.maxsi c0_i32_568 v995
  let v997 : BitVec 32 := Scalar.minsi c256_i32_569 v996
  let v1805 : BitVec 32 := Scalar.subi v997 v994
  let c1_i32_1196 : BitVec 32 := 1#32
  let v1807 : BitVec 32 := Scalar.divsi v1805 c1_i32_1196
  let v1808 : BitVec 32 := Scalar.muli v1807 c1_i32_1196
  let v1809 : BitVec 32 := Scalar.addi v994 v1808
  let c1_i32_1198 : BitVec 32 := 1#32
  let arg13 : BitVec 32 := Scf.iv v1809 c1_i32_1198 k1_t82
  let v1828 : Index := Scalar.indexCast arg13
  let c0_1207 : Index := 0#32
  ![v1828.toNat, 0]
def k1_off328 (i : grid1.Coords) (v354 : BitVec 32) (v359 : BitVec 32) (k1_t82 : Fin (k1_t82_loop i v354 v359).trips) : Fin 2 → Nat :=
  let c256_i32_566 : BitVec 32 := 256#32
  let c0_i32_565 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let c256_i32_569 : BitVec 32 := 256#32
  let c0_i32_568 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c256_i32_567 : BitVec 32 := 256#32
  let v995 : BitVec 32 := Scalar.subi v362 c256_i32_567
  let v996 : BitVec 32 := Scalar.maxsi c0_i32_568 v995
  let v997 : BitVec 32 := Scalar.minsi c256_i32_569 v996
  let v1805 : BitVec 32 := Scalar.subi v997 v994
  let c1_i32_1196 : BitVec 32 := 1#32
  let v1807 : BitVec 32 := Scalar.divsi v1805 c1_i32_1196
  let v1808 : BitVec 32 := Scalar.muli v1807 c1_i32_1196
  let v1809 : BitVec 32 := Scalar.addi v994 v1808
  let c1_i32_1198 : BitVec 32 := 1#32
  let arg13 : BitVec 32 := Scf.iv v1809 c1_i32_1198 k1_t82
  let v1832 : Index := Scalar.indexCast arg13
  let c16_1208 : Index := 16#32
  ![v1832.toNat, 16]
def k1_off329 (i : grid1.Coords) (v354 : BitVec 32) (v359 : BitVec 32) (k1_t82 : Fin (k1_t82_loop i v354 v359).trips) : Fin 2 → Nat :=
  let c256_i32_566 : BitVec 32 := 256#32
  let c0_i32_565 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let c256_i32_569 : BitVec 32 := 256#32
  let c0_i32_568 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c256_i32_567 : BitVec 32 := 256#32
  let v995 : BitVec 32 := Scalar.subi v362 c256_i32_567
  let v996 : BitVec 32 := Scalar.maxsi c0_i32_568 v995
  let v997 : BitVec 32 := Scalar.minsi c256_i32_569 v996
  let v1805 : BitVec 32 := Scalar.subi v997 v994
  let c1_i32_1196 : BitVec 32 := 1#32
  let v1807 : BitVec 32 := Scalar.divsi v1805 c1_i32_1196
  let v1808 : BitVec 32 := Scalar.muli v1807 c1_i32_1196
  let v1809 : BitVec 32 := Scalar.addi v994 v1808
  let c1_i32_1198 : BitVec 32 := 1#32
  let arg13 : BitVec 32 := Scf.iv v1809 c1_i32_1198 k1_t82
  let v1836 : Index := Scalar.indexCast arg13
  let c32_1209 : Index := 32#32
  ![v1836.toNat, 32]
def k1_off330 (i : grid1.Coords) (v354 : BitVec 32) (v359 : BitVec 32) (k1_t82 : Fin (k1_t82_loop i v354 v359).trips) : Fin 2 → Nat :=
  let c256_i32_566 : BitVec 32 := 256#32
  let c0_i32_565 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c256_i32_564 : BitVec 32 := 256#32
  let v992 : BitVec 32 := Scalar.subi v357 c256_i32_564
  let v993 : BitVec 32 := Scalar.maxsi c0_i32_565 v992
  let v994 : BitVec 32 := Scalar.minsi c256_i32_566 v993
  let c256_i32_569 : BitVec 32 := 256#32
  let c0_i32_568 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c256_i32_567 : BitVec 32 := 256#32
  let v995 : BitVec 32 := Scalar.subi v362 c256_i32_567
  let v996 : BitVec 32 := Scalar.maxsi c0_i32_568 v995
  let v997 : BitVec 32 := Scalar.minsi c256_i32_569 v996
  let v1805 : BitVec 32 := Scalar.subi v997 v994
  let c1_i32_1196 : BitVec 32 := 1#32
  let v1807 : BitVec 32 := Scalar.divsi v1805 c1_i32_1196
  let v1808 : BitVec 32 := Scalar.muli v1807 c1_i32_1196
  let v1809 : BitVec 32 := Scalar.addi v994 v1808
  let c1_i32_1198 : BitVec 32 := 1#32
  let arg13 : BitVec 32 := Scf.iv v1809 c1_i32_1198 k1_t82
  let v1840 : Index := Scalar.indexCast arg13
  let c48_1210 : Index := 48#32
  ![v1840.toNat, 48]
@[reducible] def k1_t83_loop (i : grid1.Coords) (v364 : BitVec 32) (v370 : BitVec 32) : Scf.Loop 32 :=
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let c256_i32_576 : BitVec 32 := 256#32
  let c0_i32_575 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c256_i32_574 : BitVec 32 := 256#32
  let v1004 : BitVec 32 := Scalar.subi v374 c256_i32_574
  let v1005 : BitVec 32 := Scalar.maxsi c0_i32_575 v1004
  let v1006 : BitVec 32 := Scalar.minsi c256_i32_576 v1005
  let v1805 : BitVec 32 := Scalar.subi v1006 v1003
  let c1_i32_1196 : BitVec 32 := 1#32
  let v1807 : BitVec 32 := Scalar.divsi v1805 c1_i32_1196
  let v1808 : BitVec 32 := Scalar.muli v1807 c1_i32_1196
  let v1809 : BitVec 32 := Scalar.addi v1003 v1808
  let c1_i32_1197 : BitVec 32 := 1#32
  ⟨v1003, v1809, c1_i32_1197⟩
def k1_cond42 (i : grid1.Coords) (v364 : BitVec 32) (v370 : BitVec 32) : BitVec 1 :=
  let c256_i32_576 : BitVec 32 := 256#32
  let c0_i32_575 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v372 : BitVec 32 := Scalar.subi v371 v3
  let v373 : BitVec 32 := Scalar.maxsi c0_i32_159 v372
  let v374 : BitVec 32 := Scalar.minsi c1024_i32_160 v373
  let c256_i32_574 : BitVec 32 := 256#32
  let v1004 : BitVec 32 := Scalar.subi v374 c256_i32_574
  let v1005 : BitVec 32 := Scalar.maxsi c0_i32_575 v1004
  let v1006 : BitVec 32 := Scalar.minsi c256_i32_576 v1005
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let v1007 : BitVec 1 := Scalar.cmpi .sgt v1006 v1003
  let v1008 : BitVec 32 := Scalar.extui v1007
  let c0_i32_577 : BitVec 32 := 0#32
  let v1009 : BitVec 1 := Scalar.cmpi .ne v1008 c0_i32_577
  v1009

def k1_off331 (i : grid1.Coords) (v364 : BitVec 32) (v370 : BitVec 32) (k1_t83 : Fin (k1_t83_loop i v364 v370).trips) : Fin 2 → Nat :=
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let c1_i32_1197 : BitVec 32 := 1#32
  let arg13 : BitVec 32 := Scf.iv v1003 c1_i32_1197 k1_t83
  let v1828 : Index := Scalar.indexCast arg13
  let c64 : Index := 64#32
  ![v1828.toNat, 64]
def k1_off332 (i : grid1.Coords) (v364 : BitVec 32) (v370 : BitVec 32) (k1_t83 : Fin (k1_t83_loop i v364 v370).trips) : Fin 2 → Nat :=
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let c1_i32_1197 : BitVec 32 := 1#32
  let arg13 : BitVec 32 := Scf.iv v1003 c1_i32_1197 k1_t83
  let v1832 : Index := Scalar.indexCast arg13
  let c80 : Index := 80#32
  ![v1832.toNat, 80]
def k1_off333 (i : grid1.Coords) (v364 : BitVec 32) (v370 : BitVec 32) (k1_t83 : Fin (k1_t83_loop i v364 v370).trips) : Fin 2 → Nat :=
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let c1_i32_1197 : BitVec 32 := 1#32
  let arg13 : BitVec 32 := Scf.iv v1003 c1_i32_1197 k1_t83
  let v1836 : Index := Scalar.indexCast arg13
  let c96 : Index := 96#32
  ![v1836.toNat, 96]
def k1_off334 (i : grid1.Coords) (v364 : BitVec 32) (v370 : BitVec 32) (k1_t83 : Fin (k1_t83_loop i v364 v370).trips) : Fin 2 → Nat :=
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let c1_i32_1197 : BitVec 32 := 1#32
  let arg13 : BitVec 32 := Scf.iv v1003 c1_i32_1197 k1_t83
  let v1840 : Index := Scalar.indexCast arg13
  let c112 : Index := 112#32
  ![v1840.toNat, 112]
@[reducible] def k1_t84_loop (i : grid1.Coords) (v364 : BitVec 32) (v370 : BitVec 32) : Scf.Loop 32 :=
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let c256_i32_576 : BitVec 32 := 256#32
  let c0_i32_575 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c256_i32_574 : BitVec 32 := 256#32
  let v1004 : BitVec 32 := Scalar.subi v374 c256_i32_574
  let v1005 : BitVec 32 := Scalar.maxsi c0_i32_575 v1004
  let v1006 : BitVec 32 := Scalar.minsi c256_i32_576 v1005
  let v1805 : BitVec 32 := Scalar.subi v1006 v1003
  let c1_i32_1196 : BitVec 32 := 1#32
  let v1807 : BitVec 32 := Scalar.divsi v1805 c1_i32_1196
  let v1808 : BitVec 32 := Scalar.muli v1807 c1_i32_1196
  let v1809 : BitVec 32 := Scalar.addi v1003 v1808
  let v1806 : BitVec 32 := Scalar.addi v1003 v1805
  let c1_i32_1198 : BitVec 32 := 1#32
  ⟨v1809, v1806, c1_i32_1198⟩
def k1_off335 (i : grid1.Coords) (v364 : BitVec 32) (v370 : BitVec 32) (k1_t84 : Fin (k1_t84_loop i v364 v370).trips) : Fin 2 → Nat :=
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let c256_i32_576 : BitVec 32 := 256#32
  let c0_i32_575 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c256_i32_574 : BitVec 32 := 256#32
  let v1004 : BitVec 32 := Scalar.subi v374 c256_i32_574
  let v1005 : BitVec 32 := Scalar.maxsi c0_i32_575 v1004
  let v1006 : BitVec 32 := Scalar.minsi c256_i32_576 v1005
  let v1805 : BitVec 32 := Scalar.subi v1006 v1003
  let c1_i32_1196 : BitVec 32 := 1#32
  let v1807 : BitVec 32 := Scalar.divsi v1805 c1_i32_1196
  let v1808 : BitVec 32 := Scalar.muli v1807 c1_i32_1196
  let v1809 : BitVec 32 := Scalar.addi v1003 v1808
  let c1_i32_1198 : BitVec 32 := 1#32
  let arg13 : BitVec 32 := Scf.iv v1809 c1_i32_1198 k1_t84
  let v1828 : Index := Scalar.indexCast arg13
  let c64 : Index := 64#32
  ![v1828.toNat, 64]
def k1_off336 (i : grid1.Coords) (v364 : BitVec 32) (v370 : BitVec 32) (k1_t84 : Fin (k1_t84_loop i v364 v370).trips) : Fin 2 → Nat :=
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let c256_i32_576 : BitVec 32 := 256#32
  let c0_i32_575 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c256_i32_574 : BitVec 32 := 256#32
  let v1004 : BitVec 32 := Scalar.subi v374 c256_i32_574
  let v1005 : BitVec 32 := Scalar.maxsi c0_i32_575 v1004
  let v1006 : BitVec 32 := Scalar.minsi c256_i32_576 v1005
  let v1805 : BitVec 32 := Scalar.subi v1006 v1003
  let c1_i32_1196 : BitVec 32 := 1#32
  let v1807 : BitVec 32 := Scalar.divsi v1805 c1_i32_1196
  let v1808 : BitVec 32 := Scalar.muli v1807 c1_i32_1196
  let v1809 : BitVec 32 := Scalar.addi v1003 v1808
  let c1_i32_1198 : BitVec 32 := 1#32
  let arg13 : BitVec 32 := Scf.iv v1809 c1_i32_1198 k1_t84
  let v1832 : Index := Scalar.indexCast arg13
  let c80 : Index := 80#32
  ![v1832.toNat, 80]
def k1_off337 (i : grid1.Coords) (v364 : BitVec 32) (v370 : BitVec 32) (k1_t84 : Fin (k1_t84_loop i v364 v370).trips) : Fin 2 → Nat :=
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let c256_i32_576 : BitVec 32 := 256#32
  let c0_i32_575 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c256_i32_574 : BitVec 32 := 256#32
  let v1004 : BitVec 32 := Scalar.subi v374 c256_i32_574
  let v1005 : BitVec 32 := Scalar.maxsi c0_i32_575 v1004
  let v1006 : BitVec 32 := Scalar.minsi c256_i32_576 v1005
  let v1805 : BitVec 32 := Scalar.subi v1006 v1003
  let c1_i32_1196 : BitVec 32 := 1#32
  let v1807 : BitVec 32 := Scalar.divsi v1805 c1_i32_1196
  let v1808 : BitVec 32 := Scalar.muli v1807 c1_i32_1196
  let v1809 : BitVec 32 := Scalar.addi v1003 v1808
  let c1_i32_1198 : BitVec 32 := 1#32
  let arg13 : BitVec 32 := Scf.iv v1809 c1_i32_1198 k1_t84
  let v1836 : Index := Scalar.indexCast arg13
  let c96 : Index := 96#32
  ![v1836.toNat, 96]
def k1_off338 (i : grid1.Coords) (v364 : BitVec 32) (v370 : BitVec 32) (k1_t84 : Fin (k1_t84_loop i v364 v370).trips) : Fin 2 → Nat :=
  let c256_i32_573 : BitVec 32 := 256#32
  let c0_i32_572 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c256_i32_571 : BitVec 32 := 256#32
  let v1001 : BitVec 32 := Scalar.subi v368 c256_i32_571
  let v1002 : BitVec 32 := Scalar.maxsi c0_i32_572 v1001
  let v1003 : BitVec 32 := Scalar.minsi c256_i32_573 v1002
  let c256_i32_576 : BitVec 32 := 256#32
  let c0_i32_575 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c256_i32_574 : BitVec 32 := 256#32
  let v1004 : BitVec 32 := Scalar.subi v374 c256_i32_574
  let v1005 : BitVec 32 := Scalar.maxsi c0_i32_575 v1004
  let v1006 : BitVec 32 := Scalar.minsi c256_i32_576 v1005
  let v1805 : BitVec 32 := Scalar.subi v1006 v1003
  let c1_i32_1196 : BitVec 32 := 1#32
  let v1807 : BitVec 32 := Scalar.divsi v1805 c1_i32_1196
  let v1808 : BitVec 32 := Scalar.muli v1807 c1_i32_1196
  let v1809 : BitVec 32 := Scalar.addi v1003 v1808
  let c1_i32_1198 : BitVec 32 := 1#32
  let arg13 : BitVec 32 := Scf.iv v1809 c1_i32_1198 k1_t84
  let v1840 : Index := Scalar.indexCast arg13
  let c112 : Index := 112#32
  ![v1840.toNat, 112]
@[reducible] def k1_t85_loop (i : grid1.Coords) (v376 : BitVec 32) (v381 : BitVec 32) : Scf.Loop 32 :=
  let c256_i32_580 : BitVec 32 := 256#32
  let c0_i32_579 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let c256_i32_583 : BitVec 32 := 256#32
  let c0_i32_582 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c256_i32_581 : BitVec 32 := 256#32
  let v1013 : BitVec 32 := Scalar.subi v384 c256_i32_581
  let v1014 : BitVec 32 := Scalar.maxsi c0_i32_582 v1013
  let v1015 : BitVec 32 := Scalar.minsi c256_i32_583 v1014
  let v1805 : BitVec 32 := Scalar.subi v1015 v1012
  let c1_i32_1196 : BitVec 32 := 1#32
  let v1807 : BitVec 32 := Scalar.divsi v1805 c1_i32_1196
  let v1808 : BitVec 32 := Scalar.muli v1807 c1_i32_1196
  let v1809 : BitVec 32 := Scalar.addi v1012 v1808
  let c1_i32_1197 : BitVec 32 := 1#32
  ⟨v1012, v1809, c1_i32_1197⟩
def k1_cond43 (i : grid1.Coords) (v376 : BitVec 32) (v381 : BitVec 32) : BitVec 1 :=
  let c256_i32_583 : BitVec 32 := 256#32
  let c0_i32_582 : BitVec 32 := 0#32
  let c1024_i32_164 : BitVec 32 := 1024#32
  let c0_i32_163 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v382 : BitVec 32 := Scalar.subi v381 v3
  let v383 : BitVec 32 := Scalar.maxsi c0_i32_163 v382
  let v384 : BitVec 32 := Scalar.minsi c1024_i32_164 v383
  let c256_i32_581 : BitVec 32 := 256#32
  let v1013 : BitVec 32 := Scalar.subi v384 c256_i32_581
  let v1014 : BitVec 32 := Scalar.maxsi c0_i32_582 v1013
  let v1015 : BitVec 32 := Scalar.minsi c256_i32_583 v1014
  let c256_i32_580 : BitVec 32 := 256#32
  let c0_i32_579 : BitVec 32 := 0#32
  let c1024_i32_162 : BitVec 32 := 1024#32
  let c0_i32_161 : BitVec 32 := 0#32
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let v1016 : BitVec 1 := Scalar.cmpi .sgt v1015 v1012
  let v1017 : BitVec 32 := Scalar.extui v1016
  let c0_i32_584 : BitVec 32 := 0#32
  let v1018 : BitVec 1 := Scalar.cmpi .ne v1017 c0_i32_584
  v1018

def k1_off339 (i : grid1.Coords) (v376 : BitVec 32) (v381 : BitVec 32) (k1_t85 : Fin (k1_t85_loop i v376 v381).trips) : Fin 2 → Nat :=
  let c256_i32_580 : BitVec 32 := 256#32
  let c0_i32_579 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let c1_i32_1197 : BitVec 32 := 1#32
  let arg13 : BitVec 32 := Scf.iv v1012 c1_i32_1197 k1_t85
  let v1828 : Index := Scalar.indexCast arg13
  let c0_1207 : Index := 0#32
  ![v1828.toNat, 0]
def k1_off340 (i : grid1.Coords) (v376 : BitVec 32) (v381 : BitVec 32) (k1_t85 : Fin (k1_t85_loop i v376 v381).trips) : Fin 2 → Nat :=
  let c256_i32_580 : BitVec 32 := 256#32
  let c0_i32_579 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let c1_i32_1197 : BitVec 32 := 1#32
  let arg13 : BitVec 32 := Scf.iv v1012 c1_i32_1197 k1_t85
  let v1832 : Index := Scalar.indexCast arg13
  let c16_1208 : Index := 16#32
  ![v1832.toNat, 16]
def k1_off341 (i : grid1.Coords) (v376 : BitVec 32) (v381 : BitVec 32) (k1_t85 : Fin (k1_t85_loop i v376 v381).trips) : Fin 2 → Nat :=
  let c256_i32_580 : BitVec 32 := 256#32
  let c0_i32_579 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let c1_i32_1197 : BitVec 32 := 1#32
  let arg13 : BitVec 32 := Scf.iv v1012 c1_i32_1197 k1_t85
  let v1836 : Index := Scalar.indexCast arg13
  let c32_1209 : Index := 32#32
  ![v1836.toNat, 32]
def k1_off342 (i : grid1.Coords) (v376 : BitVec 32) (v381 : BitVec 32) (k1_t85 : Fin (k1_t85_loop i v376 v381).trips) : Fin 2 → Nat :=
  let c256_i32_580 : BitVec 32 := 256#32
  let c0_i32_579 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let c1_i32_1197 : BitVec 32 := 1#32
  let arg13 : BitVec 32 := Scf.iv v1012 c1_i32_1197 k1_t85
  let v1840 : Index := Scalar.indexCast arg13
  let c48_1210 : Index := 48#32
  ![v1840.toNat, 48]
@[reducible] def k1_t86_loop (i : grid1.Coords) (v376 : BitVec 32) (v381 : BitVec 32) : Scf.Loop 32 :=
  let c256_i32_580 : BitVec 32 := 256#32
  let c0_i32_579 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let c256_i32_583 : BitVec 32 := 256#32
  let c0_i32_582 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c256_i32_581 : BitVec 32 := 256#32
  let v1013 : BitVec 32 := Scalar.subi v384 c256_i32_581
  let v1014 : BitVec 32 := Scalar.maxsi c0_i32_582 v1013
  let v1015 : BitVec 32 := Scalar.minsi c256_i32_583 v1014
  let v1805 : BitVec 32 := Scalar.subi v1015 v1012
  let c1_i32_1196 : BitVec 32 := 1#32
  let v1807 : BitVec 32 := Scalar.divsi v1805 c1_i32_1196
  let v1808 : BitVec 32 := Scalar.muli v1807 c1_i32_1196
  let v1809 : BitVec 32 := Scalar.addi v1012 v1808
  let v1806 : BitVec 32 := Scalar.addi v1012 v1805
  let c1_i32_1198 : BitVec 32 := 1#32
  ⟨v1809, v1806, c1_i32_1198⟩
def k1_off343 (i : grid1.Coords) (v376 : BitVec 32) (v381 : BitVec 32) (k1_t86 : Fin (k1_t86_loop i v376 v381).trips) : Fin 2 → Nat :=
  let c256_i32_580 : BitVec 32 := 256#32
  let c0_i32_579 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let c256_i32_583 : BitVec 32 := 256#32
  let c0_i32_582 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c256_i32_581 : BitVec 32 := 256#32
  let v1013 : BitVec 32 := Scalar.subi v384 c256_i32_581
  let v1014 : BitVec 32 := Scalar.maxsi c0_i32_582 v1013
  let v1015 : BitVec 32 := Scalar.minsi c256_i32_583 v1014
  let v1805 : BitVec 32 := Scalar.subi v1015 v1012
  let c1_i32_1196 : BitVec 32 := 1#32
  let v1807 : BitVec 32 := Scalar.divsi v1805 c1_i32_1196
  let v1808 : BitVec 32 := Scalar.muli v1807 c1_i32_1196
  let v1809 : BitVec 32 := Scalar.addi v1012 v1808
  let c1_i32_1198 : BitVec 32 := 1#32
  let arg13 : BitVec 32 := Scf.iv v1809 c1_i32_1198 k1_t86
  let v1828 : Index := Scalar.indexCast arg13
  let c0_1207 : Index := 0#32
  ![v1828.toNat, 0]
def k1_off344 (i : grid1.Coords) (v376 : BitVec 32) (v381 : BitVec 32) (k1_t86 : Fin (k1_t86_loop i v376 v381).trips) : Fin 2 → Nat :=
  let c256_i32_580 : BitVec 32 := 256#32
  let c0_i32_579 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let c256_i32_583 : BitVec 32 := 256#32
  let c0_i32_582 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c256_i32_581 : BitVec 32 := 256#32
  let v1013 : BitVec 32 := Scalar.subi v384 c256_i32_581
  let v1014 : BitVec 32 := Scalar.maxsi c0_i32_582 v1013
  let v1015 : BitVec 32 := Scalar.minsi c256_i32_583 v1014
  let v1805 : BitVec 32 := Scalar.subi v1015 v1012
  let c1_i32_1196 : BitVec 32 := 1#32
  let v1807 : BitVec 32 := Scalar.divsi v1805 c1_i32_1196
  let v1808 : BitVec 32 := Scalar.muli v1807 c1_i32_1196
  let v1809 : BitVec 32 := Scalar.addi v1012 v1808
  let c1_i32_1198 : BitVec 32 := 1#32
  let arg13 : BitVec 32 := Scf.iv v1809 c1_i32_1198 k1_t86
  let v1832 : Index := Scalar.indexCast arg13
  let c16_1208 : Index := 16#32
  ![v1832.toNat, 16]
def k1_off345 (i : grid1.Coords) (v376 : BitVec 32) (v381 : BitVec 32) (k1_t86 : Fin (k1_t86_loop i v376 v381).trips) : Fin 2 → Nat :=
  let c256_i32_580 : BitVec 32 := 256#32
  let c0_i32_579 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let c256_i32_583 : BitVec 32 := 256#32
  let c0_i32_582 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c256_i32_581 : BitVec 32 := 256#32
  let v1013 : BitVec 32 := Scalar.subi v384 c256_i32_581
  let v1014 : BitVec 32 := Scalar.maxsi c0_i32_582 v1013
  let v1015 : BitVec 32 := Scalar.minsi c256_i32_583 v1014
  let v1805 : BitVec 32 := Scalar.subi v1015 v1012
  let c1_i32_1196 : BitVec 32 := 1#32
  let v1807 : BitVec 32 := Scalar.divsi v1805 c1_i32_1196
  let v1808 : BitVec 32 := Scalar.muli v1807 c1_i32_1196
  let v1809 : BitVec 32 := Scalar.addi v1012 v1808
  let c1_i32_1198 : BitVec 32 := 1#32
  let arg13 : BitVec 32 := Scf.iv v1809 c1_i32_1198 k1_t86
  let v1836 : Index := Scalar.indexCast arg13
  let c32_1209 : Index := 32#32
  ![v1836.toNat, 32]
def k1_off346 (i : grid1.Coords) (v376 : BitVec 32) (v381 : BitVec 32) (k1_t86 : Fin (k1_t86_loop i v376 v381).trips) : Fin 2 → Nat :=
  let c256_i32_580 : BitVec 32 := 256#32
  let c0_i32_579 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c256_i32_578 : BitVec 32 := 256#32
  let v1010 : BitVec 32 := Scalar.subi v379 c256_i32_578
  let v1011 : BitVec 32 := Scalar.maxsi c0_i32_579 v1010
  let v1012 : BitVec 32 := Scalar.minsi c256_i32_580 v1011
  let c256_i32_583 : BitVec 32 := 256#32
  let c0_i32_582 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c256_i32_581 : BitVec 32 := 256#32
  let v1013 : BitVec 32 := Scalar.subi v384 c256_i32_581
  let v1014 : BitVec 32 := Scalar.maxsi c0_i32_582 v1013
  let v1015 : BitVec 32 := Scalar.minsi c256_i32_583 v1014
  let v1805 : BitVec 32 := Scalar.subi v1015 v1012
  let c1_i32_1196 : BitVec 32 := 1#32
  let v1807 : BitVec 32 := Scalar.divsi v1805 c1_i32_1196
  let v1808 : BitVec 32 := Scalar.muli v1807 c1_i32_1196
  let v1809 : BitVec 32 := Scalar.addi v1012 v1808
  let c1_i32_1198 : BitVec 32 := 1#32
  let arg13 : BitVec 32 := Scf.iv v1809 c1_i32_1198 k1_t86
  let v1840 : Index := Scalar.indexCast arg13
  let c48_1210 : Index := 48#32
  ![v1840.toNat, 48]
@[reducible] def k1_t87_loop (i : grid1.Coords) (v386 : BitVec 32) (v392 : BitVec 32) : Scf.Loop 32 :=
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let c256_i32_590 : BitVec 32 := 256#32
  let c0_i32_589 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c256_i32_588 : BitVec 32 := 256#32
  let v1022 : BitVec 32 := Scalar.subi v396 c256_i32_588
  let v1023 : BitVec 32 := Scalar.maxsi c0_i32_589 v1022
  let v1024 : BitVec 32 := Scalar.minsi c256_i32_590 v1023
  let v1805 : BitVec 32 := Scalar.subi v1024 v1021
  let c1_i32_1196 : BitVec 32 := 1#32
  let v1807 : BitVec 32 := Scalar.divsi v1805 c1_i32_1196
  let v1808 : BitVec 32 := Scalar.muli v1807 c1_i32_1196
  let v1809 : BitVec 32 := Scalar.addi v1021 v1808
  let c1_i32_1197 : BitVec 32 := 1#32
  ⟨v1021, v1809, c1_i32_1197⟩
def k1_cond44 (i : grid1.Coords) (v386 : BitVec 32) (v392 : BitVec 32) : BitVec 1 :=
  let c256_i32_590 : BitVec 32 := 256#32
  let c0_i32_589 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v394 : BitVec 32 := Scalar.subi v393 v3
  let v395 : BitVec 32 := Scalar.maxsi c0_i32_169 v394
  let v396 : BitVec 32 := Scalar.minsi c1024_i32_170 v395
  let c256_i32_588 : BitVec 32 := 256#32
  let v1022 : BitVec 32 := Scalar.subi v396 c256_i32_588
  let v1023 : BitVec 32 := Scalar.maxsi c0_i32_589 v1022
  let v1024 : BitVec 32 := Scalar.minsi c256_i32_590 v1023
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let v1025 : BitVec 1 := Scalar.cmpi .sgt v1024 v1021
  let v1026 : BitVec 32 := Scalar.extui v1025
  let c0_i32_591 : BitVec 32 := 0#32
  let v1027 : BitVec 1 := Scalar.cmpi .ne v1026 c0_i32_591
  v1027

def k1_off347 (i : grid1.Coords) (v386 : BitVec 32) (v392 : BitVec 32) (k1_t87 : Fin (k1_t87_loop i v386 v392).trips) : Fin 2 → Nat :=
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let c1_i32_1197 : BitVec 32 := 1#32
  let arg13 : BitVec 32 := Scf.iv v1021 c1_i32_1197 k1_t87
  let v1828 : Index := Scalar.indexCast arg13
  let c64 : Index := 64#32
  ![v1828.toNat, 64]
def k1_off348 (i : grid1.Coords) (v386 : BitVec 32) (v392 : BitVec 32) (k1_t87 : Fin (k1_t87_loop i v386 v392).trips) : Fin 2 → Nat :=
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let c1_i32_1197 : BitVec 32 := 1#32
  let arg13 : BitVec 32 := Scf.iv v1021 c1_i32_1197 k1_t87
  let v1832 : Index := Scalar.indexCast arg13
  let c80 : Index := 80#32
  ![v1832.toNat, 80]
def k1_off349 (i : grid1.Coords) (v386 : BitVec 32) (v392 : BitVec 32) (k1_t87 : Fin (k1_t87_loop i v386 v392).trips) : Fin 2 → Nat :=
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let c1_i32_1197 : BitVec 32 := 1#32
  let arg13 : BitVec 32 := Scf.iv v1021 c1_i32_1197 k1_t87
  let v1836 : Index := Scalar.indexCast arg13
  let c96 : Index := 96#32
  ![v1836.toNat, 96]
def k1_off350 (i : grid1.Coords) (v386 : BitVec 32) (v392 : BitVec 32) (k1_t87 : Fin (k1_t87_loop i v386 v392).trips) : Fin 2 → Nat :=
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let c1_i32_1197 : BitVec 32 := 1#32
  let arg13 : BitVec 32 := Scf.iv v1021 c1_i32_1197 k1_t87
  let v1840 : Index := Scalar.indexCast arg13
  let c112 : Index := 112#32
  ![v1840.toNat, 112]
@[reducible] def k1_t88_loop (i : grid1.Coords) (v386 : BitVec 32) (v392 : BitVec 32) : Scf.Loop 32 :=
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let c256_i32_590 : BitVec 32 := 256#32
  let c0_i32_589 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c256_i32_588 : BitVec 32 := 256#32
  let v1022 : BitVec 32 := Scalar.subi v396 c256_i32_588
  let v1023 : BitVec 32 := Scalar.maxsi c0_i32_589 v1022
  let v1024 : BitVec 32 := Scalar.minsi c256_i32_590 v1023
  let v1805 : BitVec 32 := Scalar.subi v1024 v1021
  let c1_i32_1196 : BitVec 32 := 1#32
  let v1807 : BitVec 32 := Scalar.divsi v1805 c1_i32_1196
  let v1808 : BitVec 32 := Scalar.muli v1807 c1_i32_1196
  let v1809 : BitVec 32 := Scalar.addi v1021 v1808
  let v1806 : BitVec 32 := Scalar.addi v1021 v1805
  let c1_i32_1198 : BitVec 32 := 1#32
  ⟨v1809, v1806, c1_i32_1198⟩
def k1_off351 (i : grid1.Coords) (v386 : BitVec 32) (v392 : BitVec 32) (k1_t88 : Fin (k1_t88_loop i v386 v392).trips) : Fin 2 → Nat :=
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let c256_i32_590 : BitVec 32 := 256#32
  let c0_i32_589 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c256_i32_588 : BitVec 32 := 256#32
  let v1022 : BitVec 32 := Scalar.subi v396 c256_i32_588
  let v1023 : BitVec 32 := Scalar.maxsi c0_i32_589 v1022
  let v1024 : BitVec 32 := Scalar.minsi c256_i32_590 v1023
  let v1805 : BitVec 32 := Scalar.subi v1024 v1021
  let c1_i32_1196 : BitVec 32 := 1#32
  let v1807 : BitVec 32 := Scalar.divsi v1805 c1_i32_1196
  let v1808 : BitVec 32 := Scalar.muli v1807 c1_i32_1196
  let v1809 : BitVec 32 := Scalar.addi v1021 v1808
  let c1_i32_1198 : BitVec 32 := 1#32
  let arg13 : BitVec 32 := Scf.iv v1809 c1_i32_1198 k1_t88
  let v1828 : Index := Scalar.indexCast arg13
  let c64 : Index := 64#32
  ![v1828.toNat, 64]
def k1_off352 (i : grid1.Coords) (v386 : BitVec 32) (v392 : BitVec 32) (k1_t88 : Fin (k1_t88_loop i v386 v392).trips) : Fin 2 → Nat :=
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let c256_i32_590 : BitVec 32 := 256#32
  let c0_i32_589 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c256_i32_588 : BitVec 32 := 256#32
  let v1022 : BitVec 32 := Scalar.subi v396 c256_i32_588
  let v1023 : BitVec 32 := Scalar.maxsi c0_i32_589 v1022
  let v1024 : BitVec 32 := Scalar.minsi c256_i32_590 v1023
  let v1805 : BitVec 32 := Scalar.subi v1024 v1021
  let c1_i32_1196 : BitVec 32 := 1#32
  let v1807 : BitVec 32 := Scalar.divsi v1805 c1_i32_1196
  let v1808 : BitVec 32 := Scalar.muli v1807 c1_i32_1196
  let v1809 : BitVec 32 := Scalar.addi v1021 v1808
  let c1_i32_1198 : BitVec 32 := 1#32
  let arg13 : BitVec 32 := Scf.iv v1809 c1_i32_1198 k1_t88
  let v1832 : Index := Scalar.indexCast arg13
  let c80 : Index := 80#32
  ![v1832.toNat, 80]
def k1_off353 (i : grid1.Coords) (v386 : BitVec 32) (v392 : BitVec 32) (k1_t88 : Fin (k1_t88_loop i v386 v392).trips) : Fin 2 → Nat :=
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let c256_i32_590 : BitVec 32 := 256#32
  let c0_i32_589 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c256_i32_588 : BitVec 32 := 256#32
  let v1022 : BitVec 32 := Scalar.subi v396 c256_i32_588
  let v1023 : BitVec 32 := Scalar.maxsi c0_i32_589 v1022
  let v1024 : BitVec 32 := Scalar.minsi c256_i32_590 v1023
  let v1805 : BitVec 32 := Scalar.subi v1024 v1021
  let c1_i32_1196 : BitVec 32 := 1#32
  let v1807 : BitVec 32 := Scalar.divsi v1805 c1_i32_1196
  let v1808 : BitVec 32 := Scalar.muli v1807 c1_i32_1196
  let v1809 : BitVec 32 := Scalar.addi v1021 v1808
  let c1_i32_1198 : BitVec 32 := 1#32
  let arg13 : BitVec 32 := Scf.iv v1809 c1_i32_1198 k1_t88
  let v1836 : Index := Scalar.indexCast arg13
  let c96 : Index := 96#32
  ![v1836.toNat, 96]
def k1_off354 (i : grid1.Coords) (v386 : BitVec 32) (v392 : BitVec 32) (k1_t88 : Fin (k1_t88_loop i v386 v392).trips) : Fin 2 → Nat :=
  let c256_i32_587 : BitVec 32 := 256#32
  let c0_i32_586 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c256_i32_585 : BitVec 32 := 256#32
  let v1019 : BitVec 32 := Scalar.subi v390 c256_i32_585
  let v1020 : BitVec 32 := Scalar.maxsi c0_i32_586 v1019
  let v1021 : BitVec 32 := Scalar.minsi c256_i32_587 v1020
  let c256_i32_590 : BitVec 32 := 256#32
  let c0_i32_589 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c256_i32_588 : BitVec 32 := 256#32
  let v1022 : BitVec 32 := Scalar.subi v396 c256_i32_588
  let v1023 : BitVec 32 := Scalar.maxsi c0_i32_589 v1022
  let v1024 : BitVec 32 := Scalar.minsi c256_i32_590 v1023
  let v1805 : BitVec 32 := Scalar.subi v1024 v1021
  let c1_i32_1196 : BitVec 32 := 1#32
  let v1807 : BitVec 32 := Scalar.divsi v1805 c1_i32_1196
  let v1808 : BitVec 32 := Scalar.muli v1807 c1_i32_1196
  let v1809 : BitVec 32 := Scalar.addi v1021 v1808
  let c1_i32_1198 : BitVec 32 := 1#32
  let arg13 : BitVec 32 := Scf.iv v1809 c1_i32_1198 k1_t88
  let v1840 : Index := Scalar.indexCast arg13
  let c112 : Index := 112#32
  ![v1840.toNat, 112]
@[reducible] def k1_t89_loop (i : grid1.Coords) (v398 : BitVec 32) (v403 : BitVec 32) : Scf.Loop 32 :=
  let c256_i32_594 : BitVec 32 := 256#32
  let c0_i32_593 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let c256_i32_597 : BitVec 32 := 256#32
  let c0_i32_596 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c256_i32_595 : BitVec 32 := 256#32
  let v1031 : BitVec 32 := Scalar.subi v406 c256_i32_595
  let v1032 : BitVec 32 := Scalar.maxsi c0_i32_596 v1031
  let v1033 : BitVec 32 := Scalar.minsi c256_i32_597 v1032
  let v1805 : BitVec 32 := Scalar.subi v1033 v1030
  let c1_i32_1196 : BitVec 32 := 1#32
  let v1807 : BitVec 32 := Scalar.divsi v1805 c1_i32_1196
  let v1808 : BitVec 32 := Scalar.muli v1807 c1_i32_1196
  let v1809 : BitVec 32 := Scalar.addi v1030 v1808
  let c1_i32_1197 : BitVec 32 := 1#32
  ⟨v1030, v1809, c1_i32_1197⟩
def k1_cond45 (i : grid1.Coords) (v398 : BitVec 32) (v403 : BitVec 32) : BitVec 1 :=
  let c256_i32_597 : BitVec 32 := 256#32
  let c0_i32_596 : BitVec 32 := 0#32
  let c1024_i32_174 : BitVec 32 := 1024#32
  let c0_i32_173 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v404 : BitVec 32 := Scalar.subi v403 v3
  let v405 : BitVec 32 := Scalar.maxsi c0_i32_173 v404
  let v406 : BitVec 32 := Scalar.minsi c1024_i32_174 v405
  let c256_i32_595 : BitVec 32 := 256#32
  let v1031 : BitVec 32 := Scalar.subi v406 c256_i32_595
  let v1032 : BitVec 32 := Scalar.maxsi c0_i32_596 v1031
  let v1033 : BitVec 32 := Scalar.minsi c256_i32_597 v1032
  let c256_i32_594 : BitVec 32 := 256#32
  let c0_i32_593 : BitVec 32 := 0#32
  let c1024_i32_172 : BitVec 32 := 1024#32
  let c0_i32_171 : BitVec 32 := 0#32
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let v1034 : BitVec 1 := Scalar.cmpi .sgt v1033 v1030
  let v1035 : BitVec 32 := Scalar.extui v1034
  let c0_i32_598 : BitVec 32 := 0#32
  let v1036 : BitVec 1 := Scalar.cmpi .ne v1035 c0_i32_598
  v1036

def k1_off355 (i : grid1.Coords) (v398 : BitVec 32) (v403 : BitVec 32) (k1_t89 : Fin (k1_t89_loop i v398 v403).trips) : Fin 2 → Nat :=
  let c256_i32_594 : BitVec 32 := 256#32
  let c0_i32_593 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let c1_i32_1197 : BitVec 32 := 1#32
  let arg13 : BitVec 32 := Scf.iv v1030 c1_i32_1197 k1_t89
  let v1828 : Index := Scalar.indexCast arg13
  let c0_1207 : Index := 0#32
  ![v1828.toNat, 0]
def k1_off356 (i : grid1.Coords) (v398 : BitVec 32) (v403 : BitVec 32) (k1_t89 : Fin (k1_t89_loop i v398 v403).trips) : Fin 2 → Nat :=
  let c256_i32_594 : BitVec 32 := 256#32
  let c0_i32_593 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let c1_i32_1197 : BitVec 32 := 1#32
  let arg13 : BitVec 32 := Scf.iv v1030 c1_i32_1197 k1_t89
  let v1832 : Index := Scalar.indexCast arg13
  let c16_1208 : Index := 16#32
  ![v1832.toNat, 16]
def k1_off357 (i : grid1.Coords) (v398 : BitVec 32) (v403 : BitVec 32) (k1_t89 : Fin (k1_t89_loop i v398 v403).trips) : Fin 2 → Nat :=
  let c256_i32_594 : BitVec 32 := 256#32
  let c0_i32_593 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let c1_i32_1197 : BitVec 32 := 1#32
  let arg13 : BitVec 32 := Scf.iv v1030 c1_i32_1197 k1_t89
  let v1836 : Index := Scalar.indexCast arg13
  let c32_1209 : Index := 32#32
  ![v1836.toNat, 32]
def k1_off358 (i : grid1.Coords) (v398 : BitVec 32) (v403 : BitVec 32) (k1_t89 : Fin (k1_t89_loop i v398 v403).trips) : Fin 2 → Nat :=
  let c256_i32_594 : BitVec 32 := 256#32
  let c0_i32_593 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let c1_i32_1197 : BitVec 32 := 1#32
  let arg13 : BitVec 32 := Scf.iv v1030 c1_i32_1197 k1_t89
  let v1840 : Index := Scalar.indexCast arg13
  let c48_1210 : Index := 48#32
  ![v1840.toNat, 48]
@[reducible] def k1_t90_loop (i : grid1.Coords) (v398 : BitVec 32) (v403 : BitVec 32) : Scf.Loop 32 :=
  let c256_i32_594 : BitVec 32 := 256#32
  let c0_i32_593 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let c256_i32_597 : BitVec 32 := 256#32
  let c0_i32_596 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c256_i32_595 : BitVec 32 := 256#32
  let v1031 : BitVec 32 := Scalar.subi v406 c256_i32_595
  let v1032 : BitVec 32 := Scalar.maxsi c0_i32_596 v1031
  let v1033 : BitVec 32 := Scalar.minsi c256_i32_597 v1032
  let v1805 : BitVec 32 := Scalar.subi v1033 v1030
  let c1_i32_1196 : BitVec 32 := 1#32
  let v1807 : BitVec 32 := Scalar.divsi v1805 c1_i32_1196
  let v1808 : BitVec 32 := Scalar.muli v1807 c1_i32_1196
  let v1809 : BitVec 32 := Scalar.addi v1030 v1808
  let v1806 : BitVec 32 := Scalar.addi v1030 v1805
  let c1_i32_1198 : BitVec 32 := 1#32
  ⟨v1809, v1806, c1_i32_1198⟩
def k1_off359 (i : grid1.Coords) (v398 : BitVec 32) (v403 : BitVec 32) (k1_t90 : Fin (k1_t90_loop i v398 v403).trips) : Fin 2 → Nat :=
  let c256_i32_594 : BitVec 32 := 256#32
  let c0_i32_593 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let c256_i32_597 : BitVec 32 := 256#32
  let c0_i32_596 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c256_i32_595 : BitVec 32 := 256#32
  let v1031 : BitVec 32 := Scalar.subi v406 c256_i32_595
  let v1032 : BitVec 32 := Scalar.maxsi c0_i32_596 v1031
  let v1033 : BitVec 32 := Scalar.minsi c256_i32_597 v1032
  let v1805 : BitVec 32 := Scalar.subi v1033 v1030
  let c1_i32_1196 : BitVec 32 := 1#32
  let v1807 : BitVec 32 := Scalar.divsi v1805 c1_i32_1196
  let v1808 : BitVec 32 := Scalar.muli v1807 c1_i32_1196
  let v1809 : BitVec 32 := Scalar.addi v1030 v1808
  let c1_i32_1198 : BitVec 32 := 1#32
  let arg13 : BitVec 32 := Scf.iv v1809 c1_i32_1198 k1_t90
  let v1828 : Index := Scalar.indexCast arg13
  let c0_1207 : Index := 0#32
  ![v1828.toNat, 0]
def k1_off360 (i : grid1.Coords) (v398 : BitVec 32) (v403 : BitVec 32) (k1_t90 : Fin (k1_t90_loop i v398 v403).trips) : Fin 2 → Nat :=
  let c256_i32_594 : BitVec 32 := 256#32
  let c0_i32_593 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let c256_i32_597 : BitVec 32 := 256#32
  let c0_i32_596 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c256_i32_595 : BitVec 32 := 256#32
  let v1031 : BitVec 32 := Scalar.subi v406 c256_i32_595
  let v1032 : BitVec 32 := Scalar.maxsi c0_i32_596 v1031
  let v1033 : BitVec 32 := Scalar.minsi c256_i32_597 v1032
  let v1805 : BitVec 32 := Scalar.subi v1033 v1030
  let c1_i32_1196 : BitVec 32 := 1#32
  let v1807 : BitVec 32 := Scalar.divsi v1805 c1_i32_1196
  let v1808 : BitVec 32 := Scalar.muli v1807 c1_i32_1196
  let v1809 : BitVec 32 := Scalar.addi v1030 v1808
  let c1_i32_1198 : BitVec 32 := 1#32
  let arg13 : BitVec 32 := Scf.iv v1809 c1_i32_1198 k1_t90
  let v1832 : Index := Scalar.indexCast arg13
  let c16_1208 : Index := 16#32
  ![v1832.toNat, 16]
def k1_off361 (i : grid1.Coords) (v398 : BitVec 32) (v403 : BitVec 32) (k1_t90 : Fin (k1_t90_loop i v398 v403).trips) : Fin 2 → Nat :=
  let c256_i32_594 : BitVec 32 := 256#32
  let c0_i32_593 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let c256_i32_597 : BitVec 32 := 256#32
  let c0_i32_596 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c256_i32_595 : BitVec 32 := 256#32
  let v1031 : BitVec 32 := Scalar.subi v406 c256_i32_595
  let v1032 : BitVec 32 := Scalar.maxsi c0_i32_596 v1031
  let v1033 : BitVec 32 := Scalar.minsi c256_i32_597 v1032
  let v1805 : BitVec 32 := Scalar.subi v1033 v1030
  let c1_i32_1196 : BitVec 32 := 1#32
  let v1807 : BitVec 32 := Scalar.divsi v1805 c1_i32_1196
  let v1808 : BitVec 32 := Scalar.muli v1807 c1_i32_1196
  let v1809 : BitVec 32 := Scalar.addi v1030 v1808
  let c1_i32_1198 : BitVec 32 := 1#32
  let arg13 : BitVec 32 := Scf.iv v1809 c1_i32_1198 k1_t90
  let v1836 : Index := Scalar.indexCast arg13
  let c32_1209 : Index := 32#32
  ![v1836.toNat, 32]
def k1_off362 (i : grid1.Coords) (v398 : BitVec 32) (v403 : BitVec 32) (k1_t90 : Fin (k1_t90_loop i v398 v403).trips) : Fin 2 → Nat :=
  let c256_i32_594 : BitVec 32 := 256#32
  let c0_i32_593 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c256_i32_592 : BitVec 32 := 256#32
  let v1028 : BitVec 32 := Scalar.subi v401 c256_i32_592
  let v1029 : BitVec 32 := Scalar.maxsi c0_i32_593 v1028
  let v1030 : BitVec 32 := Scalar.minsi c256_i32_594 v1029
  let c256_i32_597 : BitVec 32 := 256#32
  let c0_i32_596 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c256_i32_595 : BitVec 32 := 256#32
  let v1031 : BitVec 32 := Scalar.subi v406 c256_i32_595
  let v1032 : BitVec 32 := Scalar.maxsi c0_i32_596 v1031
  let v1033 : BitVec 32 := Scalar.minsi c256_i32_597 v1032
  let v1805 : BitVec 32 := Scalar.subi v1033 v1030
  let c1_i32_1196 : BitVec 32 := 1#32
  let v1807 : BitVec 32 := Scalar.divsi v1805 c1_i32_1196
  let v1808 : BitVec 32 := Scalar.muli v1807 c1_i32_1196
  let v1809 : BitVec 32 := Scalar.addi v1030 v1808
  let c1_i32_1198 : BitVec 32 := 1#32
  let arg13 : BitVec 32 := Scf.iv v1809 c1_i32_1198 k1_t90
  let v1840 : Index := Scalar.indexCast arg13
  let c48_1210 : Index := 48#32
  ![v1840.toNat, 48]
@[reducible] def k1_t91_loop (i : grid1.Coords) (v408 : BitVec 32) (v414 : BitVec 32) : Scf.Loop 32 :=
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let c256_i32_604 : BitVec 32 := 256#32
  let c0_i32_603 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c256_i32_602 : BitVec 32 := 256#32
  let v1040 : BitVec 32 := Scalar.subi v418 c256_i32_602
  let v1041 : BitVec 32 := Scalar.maxsi c0_i32_603 v1040
  let v1042 : BitVec 32 := Scalar.minsi c256_i32_604 v1041
  let v1805 : BitVec 32 := Scalar.subi v1042 v1039
  let c1_i32_1196 : BitVec 32 := 1#32
  let v1807 : BitVec 32 := Scalar.divsi v1805 c1_i32_1196
  let v1808 : BitVec 32 := Scalar.muli v1807 c1_i32_1196
  let v1809 : BitVec 32 := Scalar.addi v1039 v1808
  let c1_i32_1197 : BitVec 32 := 1#32
  ⟨v1039, v1809, c1_i32_1197⟩
def k1_cond46 (i : grid1.Coords) (v408 : BitVec 32) (v414 : BitVec 32) : BitVec 1 :=
  let c256_i32_604 : BitVec 32 := 256#32
  let c0_i32_603 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v416 : BitVec 32 := Scalar.subi v415 v3
  let v417 : BitVec 32 := Scalar.maxsi c0_i32_179 v416
  let v418 : BitVec 32 := Scalar.minsi c1024_i32_180 v417
  let c256_i32_602 : BitVec 32 := 256#32
  let v1040 : BitVec 32 := Scalar.subi v418 c256_i32_602
  let v1041 : BitVec 32 := Scalar.maxsi c0_i32_603 v1040
  let v1042 : BitVec 32 := Scalar.minsi c256_i32_604 v1041
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let v1043 : BitVec 1 := Scalar.cmpi .sgt v1042 v1039
  let v1044 : BitVec 32 := Scalar.extui v1043
  let c0_i32_605 : BitVec 32 := 0#32
  let v1045 : BitVec 1 := Scalar.cmpi .ne v1044 c0_i32_605
  v1045

def k1_off363 (i : grid1.Coords) (v408 : BitVec 32) (v414 : BitVec 32) (k1_t91 : Fin (k1_t91_loop i v408 v414).trips) : Fin 2 → Nat :=
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let c1_i32_1197 : BitVec 32 := 1#32
  let arg13 : BitVec 32 := Scf.iv v1039 c1_i32_1197 k1_t91
  let v1828 : Index := Scalar.indexCast arg13
  let c64 : Index := 64#32
  ![v1828.toNat, 64]
def k1_off364 (i : grid1.Coords) (v408 : BitVec 32) (v414 : BitVec 32) (k1_t91 : Fin (k1_t91_loop i v408 v414).trips) : Fin 2 → Nat :=
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let c1_i32_1197 : BitVec 32 := 1#32
  let arg13 : BitVec 32 := Scf.iv v1039 c1_i32_1197 k1_t91
  let v1832 : Index := Scalar.indexCast arg13
  let c80 : Index := 80#32
  ![v1832.toNat, 80]
def k1_off365 (i : grid1.Coords) (v408 : BitVec 32) (v414 : BitVec 32) (k1_t91 : Fin (k1_t91_loop i v408 v414).trips) : Fin 2 → Nat :=
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let c1_i32_1197 : BitVec 32 := 1#32
  let arg13 : BitVec 32 := Scf.iv v1039 c1_i32_1197 k1_t91
  let v1836 : Index := Scalar.indexCast arg13
  let c96 : Index := 96#32
  ![v1836.toNat, 96]
def k1_off366 (i : grid1.Coords) (v408 : BitVec 32) (v414 : BitVec 32) (k1_t91 : Fin (k1_t91_loop i v408 v414).trips) : Fin 2 → Nat :=
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let c1_i32_1197 : BitVec 32 := 1#32
  let arg13 : BitVec 32 := Scf.iv v1039 c1_i32_1197 k1_t91
  let v1840 : Index := Scalar.indexCast arg13
  let c112 : Index := 112#32
  ![v1840.toNat, 112]
@[reducible] def k1_t92_loop (i : grid1.Coords) (v408 : BitVec 32) (v414 : BitVec 32) : Scf.Loop 32 :=
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let c256_i32_604 : BitVec 32 := 256#32
  let c0_i32_603 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c256_i32_602 : BitVec 32 := 256#32
  let v1040 : BitVec 32 := Scalar.subi v418 c256_i32_602
  let v1041 : BitVec 32 := Scalar.maxsi c0_i32_603 v1040
  let v1042 : BitVec 32 := Scalar.minsi c256_i32_604 v1041
  let v1805 : BitVec 32 := Scalar.subi v1042 v1039
  let c1_i32_1196 : BitVec 32 := 1#32
  let v1807 : BitVec 32 := Scalar.divsi v1805 c1_i32_1196
  let v1808 : BitVec 32 := Scalar.muli v1807 c1_i32_1196
  let v1809 : BitVec 32 := Scalar.addi v1039 v1808
  let v1806 : BitVec 32 := Scalar.addi v1039 v1805
  let c1_i32_1198 : BitVec 32 := 1#32
  ⟨v1809, v1806, c1_i32_1198⟩
def k1_off367 (i : grid1.Coords) (v408 : BitVec 32) (v414 : BitVec 32) (k1_t92 : Fin (k1_t92_loop i v408 v414).trips) : Fin 2 → Nat :=
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let c256_i32_604 : BitVec 32 := 256#32
  let c0_i32_603 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c256_i32_602 : BitVec 32 := 256#32
  let v1040 : BitVec 32 := Scalar.subi v418 c256_i32_602
  let v1041 : BitVec 32 := Scalar.maxsi c0_i32_603 v1040
  let v1042 : BitVec 32 := Scalar.minsi c256_i32_604 v1041
  let v1805 : BitVec 32 := Scalar.subi v1042 v1039
  let c1_i32_1196 : BitVec 32 := 1#32
  let v1807 : BitVec 32 := Scalar.divsi v1805 c1_i32_1196
  let v1808 : BitVec 32 := Scalar.muli v1807 c1_i32_1196
  let v1809 : BitVec 32 := Scalar.addi v1039 v1808
  let c1_i32_1198 : BitVec 32 := 1#32
  let arg13 : BitVec 32 := Scf.iv v1809 c1_i32_1198 k1_t92
  let v1828 : Index := Scalar.indexCast arg13
  let c64 : Index := 64#32
  ![v1828.toNat, 64]
def k1_off368 (i : grid1.Coords) (v408 : BitVec 32) (v414 : BitVec 32) (k1_t92 : Fin (k1_t92_loop i v408 v414).trips) : Fin 2 → Nat :=
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let c256_i32_604 : BitVec 32 := 256#32
  let c0_i32_603 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c256_i32_602 : BitVec 32 := 256#32
  let v1040 : BitVec 32 := Scalar.subi v418 c256_i32_602
  let v1041 : BitVec 32 := Scalar.maxsi c0_i32_603 v1040
  let v1042 : BitVec 32 := Scalar.minsi c256_i32_604 v1041
  let v1805 : BitVec 32 := Scalar.subi v1042 v1039
  let c1_i32_1196 : BitVec 32 := 1#32
  let v1807 : BitVec 32 := Scalar.divsi v1805 c1_i32_1196
  let v1808 : BitVec 32 := Scalar.muli v1807 c1_i32_1196
  let v1809 : BitVec 32 := Scalar.addi v1039 v1808
  let c1_i32_1198 : BitVec 32 := 1#32
  let arg13 : BitVec 32 := Scf.iv v1809 c1_i32_1198 k1_t92
  let v1832 : Index := Scalar.indexCast arg13
  let c80 : Index := 80#32
  ![v1832.toNat, 80]
def k1_off369 (i : grid1.Coords) (v408 : BitVec 32) (v414 : BitVec 32) (k1_t92 : Fin (k1_t92_loop i v408 v414).trips) : Fin 2 → Nat :=
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let c256_i32_604 : BitVec 32 := 256#32
  let c0_i32_603 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c256_i32_602 : BitVec 32 := 256#32
  let v1040 : BitVec 32 := Scalar.subi v418 c256_i32_602
  let v1041 : BitVec 32 := Scalar.maxsi c0_i32_603 v1040
  let v1042 : BitVec 32 := Scalar.minsi c256_i32_604 v1041
  let v1805 : BitVec 32 := Scalar.subi v1042 v1039
  let c1_i32_1196 : BitVec 32 := 1#32
  let v1807 : BitVec 32 := Scalar.divsi v1805 c1_i32_1196
  let v1808 : BitVec 32 := Scalar.muli v1807 c1_i32_1196
  let v1809 : BitVec 32 := Scalar.addi v1039 v1808
  let c1_i32_1198 : BitVec 32 := 1#32
  let arg13 : BitVec 32 := Scf.iv v1809 c1_i32_1198 k1_t92
  let v1836 : Index := Scalar.indexCast arg13
  let c96 : Index := 96#32
  ![v1836.toNat, 96]
def k1_off370 (i : grid1.Coords) (v408 : BitVec 32) (v414 : BitVec 32) (k1_t92 : Fin (k1_t92_loop i v408 v414).trips) : Fin 2 → Nat :=
  let c256_i32_601 : BitVec 32 := 256#32
  let c0_i32_600 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c256_i32_599 : BitVec 32 := 256#32
  let v1037 : BitVec 32 := Scalar.subi v412 c256_i32_599
  let v1038 : BitVec 32 := Scalar.maxsi c0_i32_600 v1037
  let v1039 : BitVec 32 := Scalar.minsi c256_i32_601 v1038
  let c256_i32_604 : BitVec 32 := 256#32
  let c0_i32_603 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c256_i32_602 : BitVec 32 := 256#32
  let v1040 : BitVec 32 := Scalar.subi v418 c256_i32_602
  let v1041 : BitVec 32 := Scalar.maxsi c0_i32_603 v1040
  let v1042 : BitVec 32 := Scalar.minsi c256_i32_604 v1041
  let v1805 : BitVec 32 := Scalar.subi v1042 v1039
  let c1_i32_1196 : BitVec 32 := 1#32
  let v1807 : BitVec 32 := Scalar.divsi v1805 c1_i32_1196
  let v1808 : BitVec 32 := Scalar.muli v1807 c1_i32_1196
  let v1809 : BitVec 32 := Scalar.addi v1039 v1808
  let c1_i32_1198 : BitVec 32 := 1#32
  let arg13 : BitVec 32 := Scf.iv v1809 c1_i32_1198 k1_t92
  let v1840 : Index := Scalar.indexCast arg13
  let c112 : Index := 112#32
  ![v1840.toNat, 112]
@[reducible] def k1_t93_loop (i : grid1.Coords) (v420 : BitVec 32) (v425 : BitVec 32) : Scf.Loop 32 :=
  let c256_i32_608 : BitVec 32 := 256#32
  let c0_i32_607 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let c256_i32_611 : BitVec 32 := 256#32
  let c0_i32_610 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c256_i32_609 : BitVec 32 := 256#32
  let v1049 : BitVec 32 := Scalar.subi v428 c256_i32_609
  let v1050 : BitVec 32 := Scalar.maxsi c0_i32_610 v1049
  let v1051 : BitVec 32 := Scalar.minsi c256_i32_611 v1050
  let v1805 : BitVec 32 := Scalar.subi v1051 v1048
  let c1_i32_1196 : BitVec 32 := 1#32
  let v1807 : BitVec 32 := Scalar.divsi v1805 c1_i32_1196
  let v1808 : BitVec 32 := Scalar.muli v1807 c1_i32_1196
  let v1809 : BitVec 32 := Scalar.addi v1048 v1808
  let c1_i32_1197 : BitVec 32 := 1#32
  ⟨v1048, v1809, c1_i32_1197⟩
def k1_cond47 (i : grid1.Coords) (v420 : BitVec 32) (v425 : BitVec 32) : BitVec 1 :=
  let c256_i32_611 : BitVec 32 := 256#32
  let c0_i32_610 : BitVec 32 := 0#32
  let c1024_i32_184 : BitVec 32 := 1024#32
  let c0_i32_183 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v426 : BitVec 32 := Scalar.subi v425 v3
  let v427 : BitVec 32 := Scalar.maxsi c0_i32_183 v426
  let v428 : BitVec 32 := Scalar.minsi c1024_i32_184 v427
  let c256_i32_609 : BitVec 32 := 256#32
  let v1049 : BitVec 32 := Scalar.subi v428 c256_i32_609
  let v1050 : BitVec 32 := Scalar.maxsi c0_i32_610 v1049
  let v1051 : BitVec 32 := Scalar.minsi c256_i32_611 v1050
  let c256_i32_608 : BitVec 32 := 256#32
  let c0_i32_607 : BitVec 32 := 0#32
  let c1024_i32_182 : BitVec 32 := 1024#32
  let c0_i32_181 : BitVec 32 := 0#32
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let v1052 : BitVec 1 := Scalar.cmpi .sgt v1051 v1048
  let v1053 : BitVec 32 := Scalar.extui v1052
  let c0_i32_612 : BitVec 32 := 0#32
  let v1054 : BitVec 1 := Scalar.cmpi .ne v1053 c0_i32_612
  v1054

def k1_off371 (i : grid1.Coords) (v420 : BitVec 32) (v425 : BitVec 32) (k1_t93 : Fin (k1_t93_loop i v420 v425).trips) : Fin 2 → Nat :=
  let c256_i32_608 : BitVec 32 := 256#32
  let c0_i32_607 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let c1_i32_1197 : BitVec 32 := 1#32
  let arg13 : BitVec 32 := Scf.iv v1048 c1_i32_1197 k1_t93
  let v1828 : Index := Scalar.indexCast arg13
  let c0_1207 : Index := 0#32
  ![v1828.toNat, 0]
def k1_off372 (i : grid1.Coords) (v420 : BitVec 32) (v425 : BitVec 32) (k1_t93 : Fin (k1_t93_loop i v420 v425).trips) : Fin 2 → Nat :=
  let c256_i32_608 : BitVec 32 := 256#32
  let c0_i32_607 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let c1_i32_1197 : BitVec 32 := 1#32
  let arg13 : BitVec 32 := Scf.iv v1048 c1_i32_1197 k1_t93
  let v1832 : Index := Scalar.indexCast arg13
  let c16_1208 : Index := 16#32
  ![v1832.toNat, 16]
def k1_off373 (i : grid1.Coords) (v420 : BitVec 32) (v425 : BitVec 32) (k1_t93 : Fin (k1_t93_loop i v420 v425).trips) : Fin 2 → Nat :=
  let c256_i32_608 : BitVec 32 := 256#32
  let c0_i32_607 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let c1_i32_1197 : BitVec 32 := 1#32
  let arg13 : BitVec 32 := Scf.iv v1048 c1_i32_1197 k1_t93
  let v1836 : Index := Scalar.indexCast arg13
  let c32_1209 : Index := 32#32
  ![v1836.toNat, 32]
def k1_off374 (i : grid1.Coords) (v420 : BitVec 32) (v425 : BitVec 32) (k1_t93 : Fin (k1_t93_loop i v420 v425).trips) : Fin 2 → Nat :=
  let c256_i32_608 : BitVec 32 := 256#32
  let c0_i32_607 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let c1_i32_1197 : BitVec 32 := 1#32
  let arg13 : BitVec 32 := Scf.iv v1048 c1_i32_1197 k1_t93
  let v1840 : Index := Scalar.indexCast arg13
  let c48_1210 : Index := 48#32
  ![v1840.toNat, 48]
@[reducible] def k1_t94_loop (i : grid1.Coords) (v420 : BitVec 32) (v425 : BitVec 32) : Scf.Loop 32 :=
  let c256_i32_608 : BitVec 32 := 256#32
  let c0_i32_607 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let c256_i32_611 : BitVec 32 := 256#32
  let c0_i32_610 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c256_i32_609 : BitVec 32 := 256#32
  let v1049 : BitVec 32 := Scalar.subi v428 c256_i32_609
  let v1050 : BitVec 32 := Scalar.maxsi c0_i32_610 v1049
  let v1051 : BitVec 32 := Scalar.minsi c256_i32_611 v1050
  let v1805 : BitVec 32 := Scalar.subi v1051 v1048
  let c1_i32_1196 : BitVec 32 := 1#32
  let v1807 : BitVec 32 := Scalar.divsi v1805 c1_i32_1196
  let v1808 : BitVec 32 := Scalar.muli v1807 c1_i32_1196
  let v1809 : BitVec 32 := Scalar.addi v1048 v1808
  let v1806 : BitVec 32 := Scalar.addi v1048 v1805
  let c1_i32_1198 : BitVec 32 := 1#32
  ⟨v1809, v1806, c1_i32_1198⟩
def k1_off375 (i : grid1.Coords) (v420 : BitVec 32) (v425 : BitVec 32) (k1_t94 : Fin (k1_t94_loop i v420 v425).trips) : Fin 2 → Nat :=
  let c256_i32_608 : BitVec 32 := 256#32
  let c0_i32_607 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let c256_i32_611 : BitVec 32 := 256#32
  let c0_i32_610 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c256_i32_609 : BitVec 32 := 256#32
  let v1049 : BitVec 32 := Scalar.subi v428 c256_i32_609
  let v1050 : BitVec 32 := Scalar.maxsi c0_i32_610 v1049
  let v1051 : BitVec 32 := Scalar.minsi c256_i32_611 v1050
  let v1805 : BitVec 32 := Scalar.subi v1051 v1048
  let c1_i32_1196 : BitVec 32 := 1#32
  let v1807 : BitVec 32 := Scalar.divsi v1805 c1_i32_1196
  let v1808 : BitVec 32 := Scalar.muli v1807 c1_i32_1196
  let v1809 : BitVec 32 := Scalar.addi v1048 v1808
  let c1_i32_1198 : BitVec 32 := 1#32
  let arg13 : BitVec 32 := Scf.iv v1809 c1_i32_1198 k1_t94
  let v1828 : Index := Scalar.indexCast arg13
  let c0_1207 : Index := 0#32
  ![v1828.toNat, 0]
def k1_off376 (i : grid1.Coords) (v420 : BitVec 32) (v425 : BitVec 32) (k1_t94 : Fin (k1_t94_loop i v420 v425).trips) : Fin 2 → Nat :=
  let c256_i32_608 : BitVec 32 := 256#32
  let c0_i32_607 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let c256_i32_611 : BitVec 32 := 256#32
  let c0_i32_610 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c256_i32_609 : BitVec 32 := 256#32
  let v1049 : BitVec 32 := Scalar.subi v428 c256_i32_609
  let v1050 : BitVec 32 := Scalar.maxsi c0_i32_610 v1049
  let v1051 : BitVec 32 := Scalar.minsi c256_i32_611 v1050
  let v1805 : BitVec 32 := Scalar.subi v1051 v1048
  let c1_i32_1196 : BitVec 32 := 1#32
  let v1807 : BitVec 32 := Scalar.divsi v1805 c1_i32_1196
  let v1808 : BitVec 32 := Scalar.muli v1807 c1_i32_1196
  let v1809 : BitVec 32 := Scalar.addi v1048 v1808
  let c1_i32_1198 : BitVec 32 := 1#32
  let arg13 : BitVec 32 := Scf.iv v1809 c1_i32_1198 k1_t94
  let v1832 : Index := Scalar.indexCast arg13
  let c16_1208 : Index := 16#32
  ![v1832.toNat, 16]
def k1_off377 (i : grid1.Coords) (v420 : BitVec 32) (v425 : BitVec 32) (k1_t94 : Fin (k1_t94_loop i v420 v425).trips) : Fin 2 → Nat :=
  let c256_i32_608 : BitVec 32 := 256#32
  let c0_i32_607 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let c256_i32_611 : BitVec 32 := 256#32
  let c0_i32_610 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c256_i32_609 : BitVec 32 := 256#32
  let v1049 : BitVec 32 := Scalar.subi v428 c256_i32_609
  let v1050 : BitVec 32 := Scalar.maxsi c0_i32_610 v1049
  let v1051 : BitVec 32 := Scalar.minsi c256_i32_611 v1050
  let v1805 : BitVec 32 := Scalar.subi v1051 v1048
  let c1_i32_1196 : BitVec 32 := 1#32
  let v1807 : BitVec 32 := Scalar.divsi v1805 c1_i32_1196
  let v1808 : BitVec 32 := Scalar.muli v1807 c1_i32_1196
  let v1809 : BitVec 32 := Scalar.addi v1048 v1808
  let c1_i32_1198 : BitVec 32 := 1#32
  let arg13 : BitVec 32 := Scf.iv v1809 c1_i32_1198 k1_t94
  let v1836 : Index := Scalar.indexCast arg13
  let c32_1209 : Index := 32#32
  ![v1836.toNat, 32]
def k1_off378 (i : grid1.Coords) (v420 : BitVec 32) (v425 : BitVec 32) (k1_t94 : Fin (k1_t94_loop i v420 v425).trips) : Fin 2 → Nat :=
  let c256_i32_608 : BitVec 32 := 256#32
  let c0_i32_607 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c256_i32_606 : BitVec 32 := 256#32
  let v1046 : BitVec 32 := Scalar.subi v423 c256_i32_606
  let v1047 : BitVec 32 := Scalar.maxsi c0_i32_607 v1046
  let v1048 : BitVec 32 := Scalar.minsi c256_i32_608 v1047
  let c256_i32_611 : BitVec 32 := 256#32
  let c0_i32_610 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c256_i32_609 : BitVec 32 := 256#32
  let v1049 : BitVec 32 := Scalar.subi v428 c256_i32_609
  let v1050 : BitVec 32 := Scalar.maxsi c0_i32_610 v1049
  let v1051 : BitVec 32 := Scalar.minsi c256_i32_611 v1050
  let v1805 : BitVec 32 := Scalar.subi v1051 v1048
  let c1_i32_1196 : BitVec 32 := 1#32
  let v1807 : BitVec 32 := Scalar.divsi v1805 c1_i32_1196
  let v1808 : BitVec 32 := Scalar.muli v1807 c1_i32_1196
  let v1809 : BitVec 32 := Scalar.addi v1048 v1808
  let c1_i32_1198 : BitVec 32 := 1#32
  let arg13 : BitVec 32 := Scf.iv v1809 c1_i32_1198 k1_t94
  let v1840 : Index := Scalar.indexCast arg13
  let c48_1210 : Index := 48#32
  ![v1840.toNat, 48]
@[reducible] def k1_t95_loop (i : grid1.Coords) (v430 : BitVec 32) (v436 : BitVec 32) : Scf.Loop 32 :=
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let c256_i32_618 : BitVec 32 := 256#32
  let c0_i32_617 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c256_i32_616 : BitVec 32 := 256#32
  let v1058 : BitVec 32 := Scalar.subi v440 c256_i32_616
  let v1059 : BitVec 32 := Scalar.maxsi c0_i32_617 v1058
  let v1060 : BitVec 32 := Scalar.minsi c256_i32_618 v1059
  let v1805 : BitVec 32 := Scalar.subi v1060 v1057
  let c1_i32_1196 : BitVec 32 := 1#32
  let v1807 : BitVec 32 := Scalar.divsi v1805 c1_i32_1196
  let v1808 : BitVec 32 := Scalar.muli v1807 c1_i32_1196
  let v1809 : BitVec 32 := Scalar.addi v1057 v1808
  let c1_i32_1197 : BitVec 32 := 1#32
  ⟨v1057, v1809, c1_i32_1197⟩
def k1_cond48 (i : grid1.Coords) (v430 : BitVec 32) (v436 : BitVec 32) : BitVec 1 :=
  let c256_i32_618 : BitVec 32 := 256#32
  let c0_i32_617 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v438 : BitVec 32 := Scalar.subi v437 v3
  let v439 : BitVec 32 := Scalar.maxsi c0_i32_189 v438
  let v440 : BitVec 32 := Scalar.minsi c1024_i32_190 v439
  let c256_i32_616 : BitVec 32 := 256#32
  let v1058 : BitVec 32 := Scalar.subi v440 c256_i32_616
  let v1059 : BitVec 32 := Scalar.maxsi c0_i32_617 v1058
  let v1060 : BitVec 32 := Scalar.minsi c256_i32_618 v1059
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let v1061 : BitVec 1 := Scalar.cmpi .sgt v1060 v1057
  let v1062 : BitVec 32 := Scalar.extui v1061
  let c0_i32_619 : BitVec 32 := 0#32
  let v1063 : BitVec 1 := Scalar.cmpi .ne v1062 c0_i32_619
  v1063

def k1_off379 (i : grid1.Coords) (v430 : BitVec 32) (v436 : BitVec 32) (k1_t95 : Fin (k1_t95_loop i v430 v436).trips) : Fin 2 → Nat :=
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let c1_i32_1197 : BitVec 32 := 1#32
  let arg13 : BitVec 32 := Scf.iv v1057 c1_i32_1197 k1_t95
  let v1828 : Index := Scalar.indexCast arg13
  let c64 : Index := 64#32
  ![v1828.toNat, 64]
def k1_off380 (i : grid1.Coords) (v430 : BitVec 32) (v436 : BitVec 32) (k1_t95 : Fin (k1_t95_loop i v430 v436).trips) : Fin 2 → Nat :=
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let c1_i32_1197 : BitVec 32 := 1#32
  let arg13 : BitVec 32 := Scf.iv v1057 c1_i32_1197 k1_t95
  let v1832 : Index := Scalar.indexCast arg13
  let c80 : Index := 80#32
  ![v1832.toNat, 80]
def k1_off381 (i : grid1.Coords) (v430 : BitVec 32) (v436 : BitVec 32) (k1_t95 : Fin (k1_t95_loop i v430 v436).trips) : Fin 2 → Nat :=
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let c1_i32_1197 : BitVec 32 := 1#32
  let arg13 : BitVec 32 := Scf.iv v1057 c1_i32_1197 k1_t95
  let v1836 : Index := Scalar.indexCast arg13
  let c96 : Index := 96#32
  ![v1836.toNat, 96]
def k1_off382 (i : grid1.Coords) (v430 : BitVec 32) (v436 : BitVec 32) (k1_t95 : Fin (k1_t95_loop i v430 v436).trips) : Fin 2 → Nat :=
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let c1_i32_1197 : BitVec 32 := 1#32
  let arg13 : BitVec 32 := Scf.iv v1057 c1_i32_1197 k1_t95
  let v1840 : Index := Scalar.indexCast arg13
  let c112 : Index := 112#32
  ![v1840.toNat, 112]
@[reducible] def k1_t96_loop (i : grid1.Coords) (v430 : BitVec 32) (v436 : BitVec 32) : Scf.Loop 32 :=
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let c256_i32_618 : BitVec 32 := 256#32
  let c0_i32_617 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c256_i32_616 : BitVec 32 := 256#32
  let v1058 : BitVec 32 := Scalar.subi v440 c256_i32_616
  let v1059 : BitVec 32 := Scalar.maxsi c0_i32_617 v1058
  let v1060 : BitVec 32 := Scalar.minsi c256_i32_618 v1059
  let v1805 : BitVec 32 := Scalar.subi v1060 v1057
  let c1_i32_1196 : BitVec 32 := 1#32
  let v1807 : BitVec 32 := Scalar.divsi v1805 c1_i32_1196
  let v1808 : BitVec 32 := Scalar.muli v1807 c1_i32_1196
  let v1809 : BitVec 32 := Scalar.addi v1057 v1808
  let v1806 : BitVec 32 := Scalar.addi v1057 v1805
  let c1_i32_1198 : BitVec 32 := 1#32
  ⟨v1809, v1806, c1_i32_1198⟩
def k1_off383 (i : grid1.Coords) (v430 : BitVec 32) (v436 : BitVec 32) (k1_t96 : Fin (k1_t96_loop i v430 v436).trips) : Fin 2 → Nat :=
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let c256_i32_618 : BitVec 32 := 256#32
  let c0_i32_617 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c256_i32_616 : BitVec 32 := 256#32
  let v1058 : BitVec 32 := Scalar.subi v440 c256_i32_616
  let v1059 : BitVec 32 := Scalar.maxsi c0_i32_617 v1058
  let v1060 : BitVec 32 := Scalar.minsi c256_i32_618 v1059
  let v1805 : BitVec 32 := Scalar.subi v1060 v1057
  let c1_i32_1196 : BitVec 32 := 1#32
  let v1807 : BitVec 32 := Scalar.divsi v1805 c1_i32_1196
  let v1808 : BitVec 32 := Scalar.muli v1807 c1_i32_1196
  let v1809 : BitVec 32 := Scalar.addi v1057 v1808
  let c1_i32_1198 : BitVec 32 := 1#32
  let arg13 : BitVec 32 := Scf.iv v1809 c1_i32_1198 k1_t96
  let v1828 : Index := Scalar.indexCast arg13
  let c64 : Index := 64#32
  ![v1828.toNat, 64]
def k1_off384 (i : grid1.Coords) (v430 : BitVec 32) (v436 : BitVec 32) (k1_t96 : Fin (k1_t96_loop i v430 v436).trips) : Fin 2 → Nat :=
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let c256_i32_618 : BitVec 32 := 256#32
  let c0_i32_617 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c256_i32_616 : BitVec 32 := 256#32
  let v1058 : BitVec 32 := Scalar.subi v440 c256_i32_616
  let v1059 : BitVec 32 := Scalar.maxsi c0_i32_617 v1058
  let v1060 : BitVec 32 := Scalar.minsi c256_i32_618 v1059
  let v1805 : BitVec 32 := Scalar.subi v1060 v1057
  let c1_i32_1196 : BitVec 32 := 1#32
  let v1807 : BitVec 32 := Scalar.divsi v1805 c1_i32_1196
  let v1808 : BitVec 32 := Scalar.muli v1807 c1_i32_1196
  let v1809 : BitVec 32 := Scalar.addi v1057 v1808
  let c1_i32_1198 : BitVec 32 := 1#32
  let arg13 : BitVec 32 := Scf.iv v1809 c1_i32_1198 k1_t96
  let v1832 : Index := Scalar.indexCast arg13
  let c80 : Index := 80#32
  ![v1832.toNat, 80]
def k1_off385 (i : grid1.Coords) (v430 : BitVec 32) (v436 : BitVec 32) (k1_t96 : Fin (k1_t96_loop i v430 v436).trips) : Fin 2 → Nat :=
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let c256_i32_618 : BitVec 32 := 256#32
  let c0_i32_617 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c256_i32_616 : BitVec 32 := 256#32
  let v1058 : BitVec 32 := Scalar.subi v440 c256_i32_616
  let v1059 : BitVec 32 := Scalar.maxsi c0_i32_617 v1058
  let v1060 : BitVec 32 := Scalar.minsi c256_i32_618 v1059
  let v1805 : BitVec 32 := Scalar.subi v1060 v1057
  let c1_i32_1196 : BitVec 32 := 1#32
  let v1807 : BitVec 32 := Scalar.divsi v1805 c1_i32_1196
  let v1808 : BitVec 32 := Scalar.muli v1807 c1_i32_1196
  let v1809 : BitVec 32 := Scalar.addi v1057 v1808
  let c1_i32_1198 : BitVec 32 := 1#32
  let arg13 : BitVec 32 := Scf.iv v1809 c1_i32_1198 k1_t96
  let v1836 : Index := Scalar.indexCast arg13
  let c96 : Index := 96#32
  ![v1836.toNat, 96]
def k1_off386 (i : grid1.Coords) (v430 : BitVec 32) (v436 : BitVec 32) (k1_t96 : Fin (k1_t96_loop i v430 v436).trips) : Fin 2 → Nat :=
  let c256_i32_615 : BitVec 32 := 256#32
  let c0_i32_614 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c256_i32_613 : BitVec 32 := 256#32
  let v1055 : BitVec 32 := Scalar.subi v434 c256_i32_613
  let v1056 : BitVec 32 := Scalar.maxsi c0_i32_614 v1055
  let v1057 : BitVec 32 := Scalar.minsi c256_i32_615 v1056
  let c256_i32_618 : BitVec 32 := 256#32
  let c0_i32_617 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c256_i32_616 : BitVec 32 := 256#32
  let v1058 : BitVec 32 := Scalar.subi v440 c256_i32_616
  let v1059 : BitVec 32 := Scalar.maxsi c0_i32_617 v1058
  let v1060 : BitVec 32 := Scalar.minsi c256_i32_618 v1059
  let v1805 : BitVec 32 := Scalar.subi v1060 v1057
  let c1_i32_1196 : BitVec 32 := 1#32
  let v1807 : BitVec 32 := Scalar.divsi v1805 c1_i32_1196
  let v1808 : BitVec 32 := Scalar.muli v1807 c1_i32_1196
  let v1809 : BitVec 32 := Scalar.addi v1057 v1808
  let c1_i32_1198 : BitVec 32 := 1#32
  let arg13 : BitVec 32 := Scf.iv v1809 c1_i32_1198 k1_t96
  let v1840 : Index := Scalar.indexCast arg13
  let c112 : Index := 112#32
  ![v1840.toNat, 112]
@[reducible] def k1_t97_loop (i : grid1.Coords) (v442 : BitVec 32) (v447 : BitVec 32) : Scf.Loop 32 :=
  let c256_i32_622 : BitVec 32 := 256#32
  let c0_i32_621 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let c256_i32_625 : BitVec 32 := 256#32
  let c0_i32_624 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c256_i32_623 : BitVec 32 := 256#32
  let v1067 : BitVec 32 := Scalar.subi v450 c256_i32_623
  let v1068 : BitVec 32 := Scalar.maxsi c0_i32_624 v1067
  let v1069 : BitVec 32 := Scalar.minsi c256_i32_625 v1068
  let v1805 : BitVec 32 := Scalar.subi v1069 v1066
  let c1_i32_1196 : BitVec 32 := 1#32
  let v1807 : BitVec 32 := Scalar.divsi v1805 c1_i32_1196
  let v1808 : BitVec 32 := Scalar.muli v1807 c1_i32_1196
  let v1809 : BitVec 32 := Scalar.addi v1066 v1808
  let c1_i32_1197 : BitVec 32 := 1#32
  ⟨v1066, v1809, c1_i32_1197⟩
def k1_cond49 (i : grid1.Coords) (v442 : BitVec 32) (v447 : BitVec 32) : BitVec 1 :=
  let c256_i32_625 : BitVec 32 := 256#32
  let c0_i32_624 : BitVec 32 := 0#32
  let c1024_i32_194 : BitVec 32 := 1024#32
  let c0_i32_193 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v448 : BitVec 32 := Scalar.subi v447 v3
  let v449 : BitVec 32 := Scalar.maxsi c0_i32_193 v448
  let v450 : BitVec 32 := Scalar.minsi c1024_i32_194 v449
  let c256_i32_623 : BitVec 32 := 256#32
  let v1067 : BitVec 32 := Scalar.subi v450 c256_i32_623
  let v1068 : BitVec 32 := Scalar.maxsi c0_i32_624 v1067
  let v1069 : BitVec 32 := Scalar.minsi c256_i32_625 v1068
  let c256_i32_622 : BitVec 32 := 256#32
  let c0_i32_621 : BitVec 32 := 0#32
  let c1024_i32_192 : BitVec 32 := 1024#32
  let c0_i32_191 : BitVec 32 := 0#32
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let v1070 : BitVec 1 := Scalar.cmpi .sgt v1069 v1066
  let v1071 : BitVec 32 := Scalar.extui v1070
  let c0_i32_626 : BitVec 32 := 0#32
  let v1072 : BitVec 1 := Scalar.cmpi .ne v1071 c0_i32_626
  v1072

def k1_off387 (i : grid1.Coords) (v442 : BitVec 32) (v447 : BitVec 32) (k1_t97 : Fin (k1_t97_loop i v442 v447).trips) : Fin 2 → Nat :=
  let c256_i32_622 : BitVec 32 := 256#32
  let c0_i32_621 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let c1_i32_1197 : BitVec 32 := 1#32
  let arg13 : BitVec 32 := Scf.iv v1066 c1_i32_1197 k1_t97
  let v1828 : Index := Scalar.indexCast arg13
  let c0_1207 : Index := 0#32
  ![v1828.toNat, 0]
def k1_off388 (i : grid1.Coords) (v442 : BitVec 32) (v447 : BitVec 32) (k1_t97 : Fin (k1_t97_loop i v442 v447).trips) : Fin 2 → Nat :=
  let c256_i32_622 : BitVec 32 := 256#32
  let c0_i32_621 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let c1_i32_1197 : BitVec 32 := 1#32
  let arg13 : BitVec 32 := Scf.iv v1066 c1_i32_1197 k1_t97
  let v1832 : Index := Scalar.indexCast arg13
  let c16_1208 : Index := 16#32
  ![v1832.toNat, 16]
def k1_off389 (i : grid1.Coords) (v442 : BitVec 32) (v447 : BitVec 32) (k1_t97 : Fin (k1_t97_loop i v442 v447).trips) : Fin 2 → Nat :=
  let c256_i32_622 : BitVec 32 := 256#32
  let c0_i32_621 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let c1_i32_1197 : BitVec 32 := 1#32
  let arg13 : BitVec 32 := Scf.iv v1066 c1_i32_1197 k1_t97
  let v1836 : Index := Scalar.indexCast arg13
  let c32_1209 : Index := 32#32
  ![v1836.toNat, 32]
def k1_off390 (i : grid1.Coords) (v442 : BitVec 32) (v447 : BitVec 32) (k1_t97 : Fin (k1_t97_loop i v442 v447).trips) : Fin 2 → Nat :=
  let c256_i32_622 : BitVec 32 := 256#32
  let c0_i32_621 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let c1_i32_1197 : BitVec 32 := 1#32
  let arg13 : BitVec 32 := Scf.iv v1066 c1_i32_1197 k1_t97
  let v1840 : Index := Scalar.indexCast arg13
  let c48_1210 : Index := 48#32
  ![v1840.toNat, 48]
@[reducible] def k1_t98_loop (i : grid1.Coords) (v442 : BitVec 32) (v447 : BitVec 32) : Scf.Loop 32 :=
  let c256_i32_622 : BitVec 32 := 256#32
  let c0_i32_621 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let c256_i32_625 : BitVec 32 := 256#32
  let c0_i32_624 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c256_i32_623 : BitVec 32 := 256#32
  let v1067 : BitVec 32 := Scalar.subi v450 c256_i32_623
  let v1068 : BitVec 32 := Scalar.maxsi c0_i32_624 v1067
  let v1069 : BitVec 32 := Scalar.minsi c256_i32_625 v1068
  let v1805 : BitVec 32 := Scalar.subi v1069 v1066
  let c1_i32_1196 : BitVec 32 := 1#32
  let v1807 : BitVec 32 := Scalar.divsi v1805 c1_i32_1196
  let v1808 : BitVec 32 := Scalar.muli v1807 c1_i32_1196
  let v1809 : BitVec 32 := Scalar.addi v1066 v1808
  let v1806 : BitVec 32 := Scalar.addi v1066 v1805
  let c1_i32_1198 : BitVec 32 := 1#32
  ⟨v1809, v1806, c1_i32_1198⟩
def k1_off391 (i : grid1.Coords) (v442 : BitVec 32) (v447 : BitVec 32) (k1_t98 : Fin (k1_t98_loop i v442 v447).trips) : Fin 2 → Nat :=
  let c256_i32_622 : BitVec 32 := 256#32
  let c0_i32_621 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let c256_i32_625 : BitVec 32 := 256#32
  let c0_i32_624 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c256_i32_623 : BitVec 32 := 256#32
  let v1067 : BitVec 32 := Scalar.subi v450 c256_i32_623
  let v1068 : BitVec 32 := Scalar.maxsi c0_i32_624 v1067
  let v1069 : BitVec 32 := Scalar.minsi c256_i32_625 v1068
  let v1805 : BitVec 32 := Scalar.subi v1069 v1066
  let c1_i32_1196 : BitVec 32 := 1#32
  let v1807 : BitVec 32 := Scalar.divsi v1805 c1_i32_1196
  let v1808 : BitVec 32 := Scalar.muli v1807 c1_i32_1196
  let v1809 : BitVec 32 := Scalar.addi v1066 v1808
  let c1_i32_1198 : BitVec 32 := 1#32
  let arg13 : BitVec 32 := Scf.iv v1809 c1_i32_1198 k1_t98
  let v1828 : Index := Scalar.indexCast arg13
  let c0_1207 : Index := 0#32
  ![v1828.toNat, 0]
def k1_off392 (i : grid1.Coords) (v442 : BitVec 32) (v447 : BitVec 32) (k1_t98 : Fin (k1_t98_loop i v442 v447).trips) : Fin 2 → Nat :=
  let c256_i32_622 : BitVec 32 := 256#32
  let c0_i32_621 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let c256_i32_625 : BitVec 32 := 256#32
  let c0_i32_624 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c256_i32_623 : BitVec 32 := 256#32
  let v1067 : BitVec 32 := Scalar.subi v450 c256_i32_623
  let v1068 : BitVec 32 := Scalar.maxsi c0_i32_624 v1067
  let v1069 : BitVec 32 := Scalar.minsi c256_i32_625 v1068
  let v1805 : BitVec 32 := Scalar.subi v1069 v1066
  let c1_i32_1196 : BitVec 32 := 1#32
  let v1807 : BitVec 32 := Scalar.divsi v1805 c1_i32_1196
  let v1808 : BitVec 32 := Scalar.muli v1807 c1_i32_1196
  let v1809 : BitVec 32 := Scalar.addi v1066 v1808
  let c1_i32_1198 : BitVec 32 := 1#32
  let arg13 : BitVec 32 := Scf.iv v1809 c1_i32_1198 k1_t98
  let v1832 : Index := Scalar.indexCast arg13
  let c16_1208 : Index := 16#32
  ![v1832.toNat, 16]
def k1_off393 (i : grid1.Coords) (v442 : BitVec 32) (v447 : BitVec 32) (k1_t98 : Fin (k1_t98_loop i v442 v447).trips) : Fin 2 → Nat :=
  let c256_i32_622 : BitVec 32 := 256#32
  let c0_i32_621 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let c256_i32_625 : BitVec 32 := 256#32
  let c0_i32_624 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c256_i32_623 : BitVec 32 := 256#32
  let v1067 : BitVec 32 := Scalar.subi v450 c256_i32_623
  let v1068 : BitVec 32 := Scalar.maxsi c0_i32_624 v1067
  let v1069 : BitVec 32 := Scalar.minsi c256_i32_625 v1068
  let v1805 : BitVec 32 := Scalar.subi v1069 v1066
  let c1_i32_1196 : BitVec 32 := 1#32
  let v1807 : BitVec 32 := Scalar.divsi v1805 c1_i32_1196
  let v1808 : BitVec 32 := Scalar.muli v1807 c1_i32_1196
  let v1809 : BitVec 32 := Scalar.addi v1066 v1808
  let c1_i32_1198 : BitVec 32 := 1#32
  let arg13 : BitVec 32 := Scf.iv v1809 c1_i32_1198 k1_t98
  let v1836 : Index := Scalar.indexCast arg13
  let c32_1209 : Index := 32#32
  ![v1836.toNat, 32]
def k1_off394 (i : grid1.Coords) (v442 : BitVec 32) (v447 : BitVec 32) (k1_t98 : Fin (k1_t98_loop i v442 v447).trips) : Fin 2 → Nat :=
  let c256_i32_622 : BitVec 32 := 256#32
  let c0_i32_621 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c256_i32_620 : BitVec 32 := 256#32
  let v1064 : BitVec 32 := Scalar.subi v445 c256_i32_620
  let v1065 : BitVec 32 := Scalar.maxsi c0_i32_621 v1064
  let v1066 : BitVec 32 := Scalar.minsi c256_i32_622 v1065
  let c256_i32_625 : BitVec 32 := 256#32
  let c0_i32_624 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c256_i32_623 : BitVec 32 := 256#32
  let v1067 : BitVec 32 := Scalar.subi v450 c256_i32_623
  let v1068 : BitVec 32 := Scalar.maxsi c0_i32_624 v1067
  let v1069 : BitVec 32 := Scalar.minsi c256_i32_625 v1068
  let v1805 : BitVec 32 := Scalar.subi v1069 v1066
  let c1_i32_1196 : BitVec 32 := 1#32
  let v1807 : BitVec 32 := Scalar.divsi v1805 c1_i32_1196
  let v1808 : BitVec 32 := Scalar.muli v1807 c1_i32_1196
  let v1809 : BitVec 32 := Scalar.addi v1066 v1808
  let c1_i32_1198 : BitVec 32 := 1#32
  let arg13 : BitVec 32 := Scf.iv v1809 c1_i32_1198 k1_t98
  let v1840 : Index := Scalar.indexCast arg13
  let c48_1210 : Index := 48#32
  ![v1840.toNat, 48]
@[reducible] def k1_t99_loop (i : grid1.Coords) (v452 : BitVec 32) (v458 : BitVec 32) : Scf.Loop 32 :=
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let c256_i32_632 : BitVec 32 := 256#32
  let c0_i32_631 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c256_i32_630 : BitVec 32 := 256#32
  let v1076 : BitVec 32 := Scalar.subi v462 c256_i32_630
  let v1077 : BitVec 32 := Scalar.maxsi c0_i32_631 v1076
  let v1078 : BitVec 32 := Scalar.minsi c256_i32_632 v1077
  let v1805 : BitVec 32 := Scalar.subi v1078 v1075
  let c1_i32_1196 : BitVec 32 := 1#32
  let v1807 : BitVec 32 := Scalar.divsi v1805 c1_i32_1196
  let v1808 : BitVec 32 := Scalar.muli v1807 c1_i32_1196
  let v1809 : BitVec 32 := Scalar.addi v1075 v1808
  let c1_i32_1197 : BitVec 32 := 1#32
  ⟨v1075, v1809, c1_i32_1197⟩
def k1_cond50 (i : grid1.Coords) (v452 : BitVec 32) (v458 : BitVec 32) : BitVec 1 :=
  let c256_i32_632 : BitVec 32 := 256#32
  let c0_i32_631 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v460 : BitVec 32 := Scalar.subi v459 v3
  let v461 : BitVec 32 := Scalar.maxsi c0_i32_199 v460
  let v462 : BitVec 32 := Scalar.minsi c1024_i32_200 v461
  let c256_i32_630 : BitVec 32 := 256#32
  let v1076 : BitVec 32 := Scalar.subi v462 c256_i32_630
  let v1077 : BitVec 32 := Scalar.maxsi c0_i32_631 v1076
  let v1078 : BitVec 32 := Scalar.minsi c256_i32_632 v1077
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let v1079 : BitVec 1 := Scalar.cmpi .sgt v1078 v1075
  let v1080 : BitVec 32 := Scalar.extui v1079
  let c0_i32_633 : BitVec 32 := 0#32
  let v1081 : BitVec 1 := Scalar.cmpi .ne v1080 c0_i32_633
  v1081

def k1_off395 (i : grid1.Coords) (v452 : BitVec 32) (v458 : BitVec 32) (k1_t99 : Fin (k1_t99_loop i v452 v458).trips) : Fin 2 → Nat :=
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let c1_i32_1197 : BitVec 32 := 1#32
  let arg13 : BitVec 32 := Scf.iv v1075 c1_i32_1197 k1_t99
  let v1828 : Index := Scalar.indexCast arg13
  let c64 : Index := 64#32
  ![v1828.toNat, 64]
def k1_off396 (i : grid1.Coords) (v452 : BitVec 32) (v458 : BitVec 32) (k1_t99 : Fin (k1_t99_loop i v452 v458).trips) : Fin 2 → Nat :=
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let c1_i32_1197 : BitVec 32 := 1#32
  let arg13 : BitVec 32 := Scf.iv v1075 c1_i32_1197 k1_t99
  let v1832 : Index := Scalar.indexCast arg13
  let c80 : Index := 80#32
  ![v1832.toNat, 80]
def k1_off397 (i : grid1.Coords) (v452 : BitVec 32) (v458 : BitVec 32) (k1_t99 : Fin (k1_t99_loop i v452 v458).trips) : Fin 2 → Nat :=
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let c1_i32_1197 : BitVec 32 := 1#32
  let arg13 : BitVec 32 := Scf.iv v1075 c1_i32_1197 k1_t99
  let v1836 : Index := Scalar.indexCast arg13
  let c96 : Index := 96#32
  ![v1836.toNat, 96]
def k1_off398 (i : grid1.Coords) (v452 : BitVec 32) (v458 : BitVec 32) (k1_t99 : Fin (k1_t99_loop i v452 v458).trips) : Fin 2 → Nat :=
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let c1_i32_1197 : BitVec 32 := 1#32
  let arg13 : BitVec 32 := Scf.iv v1075 c1_i32_1197 k1_t99
  let v1840 : Index := Scalar.indexCast arg13
  let c112 : Index := 112#32
  ![v1840.toNat, 112]
@[reducible] def k1_t100_loop (i : grid1.Coords) (v452 : BitVec 32) (v458 : BitVec 32) : Scf.Loop 32 :=
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let c256_i32_632 : BitVec 32 := 256#32
  let c0_i32_631 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c256_i32_630 : BitVec 32 := 256#32
  let v1076 : BitVec 32 := Scalar.subi v462 c256_i32_630
  let v1077 : BitVec 32 := Scalar.maxsi c0_i32_631 v1076
  let v1078 : BitVec 32 := Scalar.minsi c256_i32_632 v1077
  let v1805 : BitVec 32 := Scalar.subi v1078 v1075
  let c1_i32_1196 : BitVec 32 := 1#32
  let v1807 : BitVec 32 := Scalar.divsi v1805 c1_i32_1196
  let v1808 : BitVec 32 := Scalar.muli v1807 c1_i32_1196
  let v1809 : BitVec 32 := Scalar.addi v1075 v1808
  let v1806 : BitVec 32 := Scalar.addi v1075 v1805
  let c1_i32_1198 : BitVec 32 := 1#32
  ⟨v1809, v1806, c1_i32_1198⟩
def k1_off399 (i : grid1.Coords) (v452 : BitVec 32) (v458 : BitVec 32) (k1_t100 : Fin (k1_t100_loop i v452 v458).trips) : Fin 2 → Nat :=
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let c256_i32_632 : BitVec 32 := 256#32
  let c0_i32_631 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c256_i32_630 : BitVec 32 := 256#32
  let v1076 : BitVec 32 := Scalar.subi v462 c256_i32_630
  let v1077 : BitVec 32 := Scalar.maxsi c0_i32_631 v1076
  let v1078 : BitVec 32 := Scalar.minsi c256_i32_632 v1077
  let v1805 : BitVec 32 := Scalar.subi v1078 v1075
  let c1_i32_1196 : BitVec 32 := 1#32
  let v1807 : BitVec 32 := Scalar.divsi v1805 c1_i32_1196
  let v1808 : BitVec 32 := Scalar.muli v1807 c1_i32_1196
  let v1809 : BitVec 32 := Scalar.addi v1075 v1808
  let c1_i32_1198 : BitVec 32 := 1#32
  let arg13 : BitVec 32 := Scf.iv v1809 c1_i32_1198 k1_t100
  let v1828 : Index := Scalar.indexCast arg13
  let c64 : Index := 64#32
  ![v1828.toNat, 64]
def k1_off400 (i : grid1.Coords) (v452 : BitVec 32) (v458 : BitVec 32) (k1_t100 : Fin (k1_t100_loop i v452 v458).trips) : Fin 2 → Nat :=
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let c256_i32_632 : BitVec 32 := 256#32
  let c0_i32_631 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c256_i32_630 : BitVec 32 := 256#32
  let v1076 : BitVec 32 := Scalar.subi v462 c256_i32_630
  let v1077 : BitVec 32 := Scalar.maxsi c0_i32_631 v1076
  let v1078 : BitVec 32 := Scalar.minsi c256_i32_632 v1077
  let v1805 : BitVec 32 := Scalar.subi v1078 v1075
  let c1_i32_1196 : BitVec 32 := 1#32
  let v1807 : BitVec 32 := Scalar.divsi v1805 c1_i32_1196
  let v1808 : BitVec 32 := Scalar.muli v1807 c1_i32_1196
  let v1809 : BitVec 32 := Scalar.addi v1075 v1808
  let c1_i32_1198 : BitVec 32 := 1#32
  let arg13 : BitVec 32 := Scf.iv v1809 c1_i32_1198 k1_t100
  let v1832 : Index := Scalar.indexCast arg13
  let c80 : Index := 80#32
  ![v1832.toNat, 80]
def k1_off401 (i : grid1.Coords) (v452 : BitVec 32) (v458 : BitVec 32) (k1_t100 : Fin (k1_t100_loop i v452 v458).trips) : Fin 2 → Nat :=
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let c256_i32_632 : BitVec 32 := 256#32
  let c0_i32_631 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c256_i32_630 : BitVec 32 := 256#32
  let v1076 : BitVec 32 := Scalar.subi v462 c256_i32_630
  let v1077 : BitVec 32 := Scalar.maxsi c0_i32_631 v1076
  let v1078 : BitVec 32 := Scalar.minsi c256_i32_632 v1077
  let v1805 : BitVec 32 := Scalar.subi v1078 v1075
  let c1_i32_1196 : BitVec 32 := 1#32
  let v1807 : BitVec 32 := Scalar.divsi v1805 c1_i32_1196
  let v1808 : BitVec 32 := Scalar.muli v1807 c1_i32_1196
  let v1809 : BitVec 32 := Scalar.addi v1075 v1808
  let c1_i32_1198 : BitVec 32 := 1#32
  let arg13 : BitVec 32 := Scf.iv v1809 c1_i32_1198 k1_t100
  let v1836 : Index := Scalar.indexCast arg13
  let c96 : Index := 96#32
  ![v1836.toNat, 96]
def k1_off402 (i : grid1.Coords) (v452 : BitVec 32) (v458 : BitVec 32) (k1_t100 : Fin (k1_t100_loop i v452 v458).trips) : Fin 2 → Nat :=
  let c256_i32_629 : BitVec 32 := 256#32
  let c0_i32_628 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c256_i32_627 : BitVec 32 := 256#32
  let v1073 : BitVec 32 := Scalar.subi v456 c256_i32_627
  let v1074 : BitVec 32 := Scalar.maxsi c0_i32_628 v1073
  let v1075 : BitVec 32 := Scalar.minsi c256_i32_629 v1074
  let c256_i32_632 : BitVec 32 := 256#32
  let c0_i32_631 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c256_i32_630 : BitVec 32 := 256#32
  let v1076 : BitVec 32 := Scalar.subi v462 c256_i32_630
  let v1077 : BitVec 32 := Scalar.maxsi c0_i32_631 v1076
  let v1078 : BitVec 32 := Scalar.minsi c256_i32_632 v1077
  let v1805 : BitVec 32 := Scalar.subi v1078 v1075
  let c1_i32_1196 : BitVec 32 := 1#32
  let v1807 : BitVec 32 := Scalar.divsi v1805 c1_i32_1196
  let v1808 : BitVec 32 := Scalar.muli v1807 c1_i32_1196
  let v1809 : BitVec 32 := Scalar.addi v1075 v1808
  let c1_i32_1198 : BitVec 32 := 1#32
  let arg13 : BitVec 32 := Scf.iv v1809 c1_i32_1198 k1_t100
  let v1840 : Index := Scalar.indexCast arg13
  let c112 : Index := 112#32
  ![v1840.toNat, 112]
@[reducible] def k1_t101_loop (i : grid1.Coords) (v464 : BitVec 32) (v469 : BitVec 32) : Scf.Loop 32 :=
  let c256_i32_636 : BitVec 32 := 256#32
  let c0_i32_635 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let c256_i32_639 : BitVec 32 := 256#32
  let c0_i32_638 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c256_i32_637 : BitVec 32 := 256#32
  let v1085 : BitVec 32 := Scalar.subi v472 c256_i32_637
  let v1086 : BitVec 32 := Scalar.maxsi c0_i32_638 v1085
  let v1087 : BitVec 32 := Scalar.minsi c256_i32_639 v1086
  let v1805 : BitVec 32 := Scalar.subi v1087 v1084
  let c1_i32_1196 : BitVec 32 := 1#32
  let v1807 : BitVec 32 := Scalar.divsi v1805 c1_i32_1196
  let v1808 : BitVec 32 := Scalar.muli v1807 c1_i32_1196
  let v1809 : BitVec 32 := Scalar.addi v1084 v1808
  let c1_i32_1197 : BitVec 32 := 1#32
  ⟨v1084, v1809, c1_i32_1197⟩
def k1_cond51 (i : grid1.Coords) (v464 : BitVec 32) (v469 : BitVec 32) : BitVec 1 :=
  let c256_i32_639 : BitVec 32 := 256#32
  let c0_i32_638 : BitVec 32 := 0#32
  let c1024_i32_204 : BitVec 32 := 1024#32
  let c0_i32_203 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v470 : BitVec 32 := Scalar.subi v469 v3
  let v471 : BitVec 32 := Scalar.maxsi c0_i32_203 v470
  let v472 : BitVec 32 := Scalar.minsi c1024_i32_204 v471
  let c256_i32_637 : BitVec 32 := 256#32
  let v1085 : BitVec 32 := Scalar.subi v472 c256_i32_637
  let v1086 : BitVec 32 := Scalar.maxsi c0_i32_638 v1085
  let v1087 : BitVec 32 := Scalar.minsi c256_i32_639 v1086
  let c256_i32_636 : BitVec 32 := 256#32
  let c0_i32_635 : BitVec 32 := 0#32
  let c1024_i32_202 : BitVec 32 := 1024#32
  let c0_i32_201 : BitVec 32 := 0#32
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let v1088 : BitVec 1 := Scalar.cmpi .sgt v1087 v1084
  let v1089 : BitVec 32 := Scalar.extui v1088
  let c0_i32_640 : BitVec 32 := 0#32
  let v1090 : BitVec 1 := Scalar.cmpi .ne v1089 c0_i32_640
  v1090

def k1_off403 (i : grid1.Coords) (v464 : BitVec 32) (v469 : BitVec 32) (k1_t101 : Fin (k1_t101_loop i v464 v469).trips) : Fin 2 → Nat :=
  let c256_i32_636 : BitVec 32 := 256#32
  let c0_i32_635 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let c1_i32_1197 : BitVec 32 := 1#32
  let arg13 : BitVec 32 := Scf.iv v1084 c1_i32_1197 k1_t101
  let v1828 : Index := Scalar.indexCast arg13
  let c0_1207 : Index := 0#32
  ![v1828.toNat, 0]
def k1_off404 (i : grid1.Coords) (v464 : BitVec 32) (v469 : BitVec 32) (k1_t101 : Fin (k1_t101_loop i v464 v469).trips) : Fin 2 → Nat :=
  let c256_i32_636 : BitVec 32 := 256#32
  let c0_i32_635 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let c1_i32_1197 : BitVec 32 := 1#32
  let arg13 : BitVec 32 := Scf.iv v1084 c1_i32_1197 k1_t101
  let v1832 : Index := Scalar.indexCast arg13
  let c16_1208 : Index := 16#32
  ![v1832.toNat, 16]
def k1_off405 (i : grid1.Coords) (v464 : BitVec 32) (v469 : BitVec 32) (k1_t101 : Fin (k1_t101_loop i v464 v469).trips) : Fin 2 → Nat :=
  let c256_i32_636 : BitVec 32 := 256#32
  let c0_i32_635 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let c1_i32_1197 : BitVec 32 := 1#32
  let arg13 : BitVec 32 := Scf.iv v1084 c1_i32_1197 k1_t101
  let v1836 : Index := Scalar.indexCast arg13
  let c32_1209 : Index := 32#32
  ![v1836.toNat, 32]
def k1_off406 (i : grid1.Coords) (v464 : BitVec 32) (v469 : BitVec 32) (k1_t101 : Fin (k1_t101_loop i v464 v469).trips) : Fin 2 → Nat :=
  let c256_i32_636 : BitVec 32 := 256#32
  let c0_i32_635 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let c1_i32_1197 : BitVec 32 := 1#32
  let arg13 : BitVec 32 := Scf.iv v1084 c1_i32_1197 k1_t101
  let v1840 : Index := Scalar.indexCast arg13
  let c48_1210 : Index := 48#32
  ![v1840.toNat, 48]
@[reducible] def k1_t102_loop (i : grid1.Coords) (v464 : BitVec 32) (v469 : BitVec 32) : Scf.Loop 32 :=
  let c256_i32_636 : BitVec 32 := 256#32
  let c0_i32_635 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let c256_i32_639 : BitVec 32 := 256#32
  let c0_i32_638 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c256_i32_637 : BitVec 32 := 256#32
  let v1085 : BitVec 32 := Scalar.subi v472 c256_i32_637
  let v1086 : BitVec 32 := Scalar.maxsi c0_i32_638 v1085
  let v1087 : BitVec 32 := Scalar.minsi c256_i32_639 v1086
  let v1805 : BitVec 32 := Scalar.subi v1087 v1084
  let c1_i32_1196 : BitVec 32 := 1#32
  let v1807 : BitVec 32 := Scalar.divsi v1805 c1_i32_1196
  let v1808 : BitVec 32 := Scalar.muli v1807 c1_i32_1196
  let v1809 : BitVec 32 := Scalar.addi v1084 v1808
  let v1806 : BitVec 32 := Scalar.addi v1084 v1805
  let c1_i32_1198 : BitVec 32 := 1#32
  ⟨v1809, v1806, c1_i32_1198⟩
def k1_off407 (i : grid1.Coords) (v464 : BitVec 32) (v469 : BitVec 32) (k1_t102 : Fin (k1_t102_loop i v464 v469).trips) : Fin 2 → Nat :=
  let c256_i32_636 : BitVec 32 := 256#32
  let c0_i32_635 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let c256_i32_639 : BitVec 32 := 256#32
  let c0_i32_638 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c256_i32_637 : BitVec 32 := 256#32
  let v1085 : BitVec 32 := Scalar.subi v472 c256_i32_637
  let v1086 : BitVec 32 := Scalar.maxsi c0_i32_638 v1085
  let v1087 : BitVec 32 := Scalar.minsi c256_i32_639 v1086
  let v1805 : BitVec 32 := Scalar.subi v1087 v1084
  let c1_i32_1196 : BitVec 32 := 1#32
  let v1807 : BitVec 32 := Scalar.divsi v1805 c1_i32_1196
  let v1808 : BitVec 32 := Scalar.muli v1807 c1_i32_1196
  let v1809 : BitVec 32 := Scalar.addi v1084 v1808
  let c1_i32_1198 : BitVec 32 := 1#32
  let arg13 : BitVec 32 := Scf.iv v1809 c1_i32_1198 k1_t102
  let v1828 : Index := Scalar.indexCast arg13
  let c0_1207 : Index := 0#32
  ![v1828.toNat, 0]
def k1_off408 (i : grid1.Coords) (v464 : BitVec 32) (v469 : BitVec 32) (k1_t102 : Fin (k1_t102_loop i v464 v469).trips) : Fin 2 → Nat :=
  let c256_i32_636 : BitVec 32 := 256#32
  let c0_i32_635 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let c256_i32_639 : BitVec 32 := 256#32
  let c0_i32_638 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c256_i32_637 : BitVec 32 := 256#32
  let v1085 : BitVec 32 := Scalar.subi v472 c256_i32_637
  let v1086 : BitVec 32 := Scalar.maxsi c0_i32_638 v1085
  let v1087 : BitVec 32 := Scalar.minsi c256_i32_639 v1086
  let v1805 : BitVec 32 := Scalar.subi v1087 v1084
  let c1_i32_1196 : BitVec 32 := 1#32
  let v1807 : BitVec 32 := Scalar.divsi v1805 c1_i32_1196
  let v1808 : BitVec 32 := Scalar.muli v1807 c1_i32_1196
  let v1809 : BitVec 32 := Scalar.addi v1084 v1808
  let c1_i32_1198 : BitVec 32 := 1#32
  let arg13 : BitVec 32 := Scf.iv v1809 c1_i32_1198 k1_t102
  let v1832 : Index := Scalar.indexCast arg13
  let c16_1208 : Index := 16#32
  ![v1832.toNat, 16]
def k1_off409 (i : grid1.Coords) (v464 : BitVec 32) (v469 : BitVec 32) (k1_t102 : Fin (k1_t102_loop i v464 v469).trips) : Fin 2 → Nat :=
  let c256_i32_636 : BitVec 32 := 256#32
  let c0_i32_635 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let c256_i32_639 : BitVec 32 := 256#32
  let c0_i32_638 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c256_i32_637 : BitVec 32 := 256#32
  let v1085 : BitVec 32 := Scalar.subi v472 c256_i32_637
  let v1086 : BitVec 32 := Scalar.maxsi c0_i32_638 v1085
  let v1087 : BitVec 32 := Scalar.minsi c256_i32_639 v1086
  let v1805 : BitVec 32 := Scalar.subi v1087 v1084
  let c1_i32_1196 : BitVec 32 := 1#32
  let v1807 : BitVec 32 := Scalar.divsi v1805 c1_i32_1196
  let v1808 : BitVec 32 := Scalar.muli v1807 c1_i32_1196
  let v1809 : BitVec 32 := Scalar.addi v1084 v1808
  let c1_i32_1198 : BitVec 32 := 1#32
  let arg13 : BitVec 32 := Scf.iv v1809 c1_i32_1198 k1_t102
  let v1836 : Index := Scalar.indexCast arg13
  let c32_1209 : Index := 32#32
  ![v1836.toNat, 32]
def k1_off410 (i : grid1.Coords) (v464 : BitVec 32) (v469 : BitVec 32) (k1_t102 : Fin (k1_t102_loop i v464 v469).trips) : Fin 2 → Nat :=
  let c256_i32_636 : BitVec 32 := 256#32
  let c0_i32_635 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c256_i32_634 : BitVec 32 := 256#32
  let v1082 : BitVec 32 := Scalar.subi v467 c256_i32_634
  let v1083 : BitVec 32 := Scalar.maxsi c0_i32_635 v1082
  let v1084 : BitVec 32 := Scalar.minsi c256_i32_636 v1083
  let c256_i32_639 : BitVec 32 := 256#32
  let c0_i32_638 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c256_i32_637 : BitVec 32 := 256#32
  let v1085 : BitVec 32 := Scalar.subi v472 c256_i32_637
  let v1086 : BitVec 32 := Scalar.maxsi c0_i32_638 v1085
  let v1087 : BitVec 32 := Scalar.minsi c256_i32_639 v1086
  let v1805 : BitVec 32 := Scalar.subi v1087 v1084
  let c1_i32_1196 : BitVec 32 := 1#32
  let v1807 : BitVec 32 := Scalar.divsi v1805 c1_i32_1196
  let v1808 : BitVec 32 := Scalar.muli v1807 c1_i32_1196
  let v1809 : BitVec 32 := Scalar.addi v1084 v1808
  let c1_i32_1198 : BitVec 32 := 1#32
  let arg13 : BitVec 32 := Scf.iv v1809 c1_i32_1198 k1_t102
  let v1840 : Index := Scalar.indexCast arg13
  let c48_1210 : Index := 48#32
  ![v1840.toNat, 48]
@[reducible] def k1_t103_loop (i : grid1.Coords) (v474 : BitVec 32) (v480 : BitVec 32) : Scf.Loop 32 :=
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let c256_i32_646 : BitVec 32 := 256#32
  let c0_i32_645 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c256_i32_644 : BitVec 32 := 256#32
  let v1094 : BitVec 32 := Scalar.subi v484 c256_i32_644
  let v1095 : BitVec 32 := Scalar.maxsi c0_i32_645 v1094
  let v1096 : BitVec 32 := Scalar.minsi c256_i32_646 v1095
  let v1805 : BitVec 32 := Scalar.subi v1096 v1093
  let c1_i32_1196 : BitVec 32 := 1#32
  let v1807 : BitVec 32 := Scalar.divsi v1805 c1_i32_1196
  let v1808 : BitVec 32 := Scalar.muli v1807 c1_i32_1196
  let v1809 : BitVec 32 := Scalar.addi v1093 v1808
  let c1_i32_1197 : BitVec 32 := 1#32
  ⟨v1093, v1809, c1_i32_1197⟩
def k1_cond52 (i : grid1.Coords) (v474 : BitVec 32) (v480 : BitVec 32) : BitVec 1 :=
  let c256_i32_646 : BitVec 32 := 256#32
  let c0_i32_645 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v482 : BitVec 32 := Scalar.subi v481 v3
  let v483 : BitVec 32 := Scalar.maxsi c0_i32_209 v482
  let v484 : BitVec 32 := Scalar.minsi c1024_i32_210 v483
  let c256_i32_644 : BitVec 32 := 256#32
  let v1094 : BitVec 32 := Scalar.subi v484 c256_i32_644
  let v1095 : BitVec 32 := Scalar.maxsi c0_i32_645 v1094
  let v1096 : BitVec 32 := Scalar.minsi c256_i32_646 v1095
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let v1097 : BitVec 1 := Scalar.cmpi .sgt v1096 v1093
  let v1098 : BitVec 32 := Scalar.extui v1097
  let c0_i32_647 : BitVec 32 := 0#32
  let v1099 : BitVec 1 := Scalar.cmpi .ne v1098 c0_i32_647
  v1099

def k1_off411 (i : grid1.Coords) (v474 : BitVec 32) (v480 : BitVec 32) (k1_t103 : Fin (k1_t103_loop i v474 v480).trips) : Fin 2 → Nat :=
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let c1_i32_1197 : BitVec 32 := 1#32
  let arg13 : BitVec 32 := Scf.iv v1093 c1_i32_1197 k1_t103
  let v1828 : Index := Scalar.indexCast arg13
  let c64 : Index := 64#32
  ![v1828.toNat, 64]
def k1_off412 (i : grid1.Coords) (v474 : BitVec 32) (v480 : BitVec 32) (k1_t103 : Fin (k1_t103_loop i v474 v480).trips) : Fin 2 → Nat :=
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let c1_i32_1197 : BitVec 32 := 1#32
  let arg13 : BitVec 32 := Scf.iv v1093 c1_i32_1197 k1_t103
  let v1832 : Index := Scalar.indexCast arg13
  let c80 : Index := 80#32
  ![v1832.toNat, 80]
def k1_off413 (i : grid1.Coords) (v474 : BitVec 32) (v480 : BitVec 32) (k1_t103 : Fin (k1_t103_loop i v474 v480).trips) : Fin 2 → Nat :=
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let c1_i32_1197 : BitVec 32 := 1#32
  let arg13 : BitVec 32 := Scf.iv v1093 c1_i32_1197 k1_t103
  let v1836 : Index := Scalar.indexCast arg13
  let c96 : Index := 96#32
  ![v1836.toNat, 96]
def k1_off414 (i : grid1.Coords) (v474 : BitVec 32) (v480 : BitVec 32) (k1_t103 : Fin (k1_t103_loop i v474 v480).trips) : Fin 2 → Nat :=
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let c1_i32_1197 : BitVec 32 := 1#32
  let arg13 : BitVec 32 := Scf.iv v1093 c1_i32_1197 k1_t103
  let v1840 : Index := Scalar.indexCast arg13
  let c112 : Index := 112#32
  ![v1840.toNat, 112]
@[reducible] def k1_t104_loop (i : grid1.Coords) (v474 : BitVec 32) (v480 : BitVec 32) : Scf.Loop 32 :=
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let c256_i32_646 : BitVec 32 := 256#32
  let c0_i32_645 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c256_i32_644 : BitVec 32 := 256#32
  let v1094 : BitVec 32 := Scalar.subi v484 c256_i32_644
  let v1095 : BitVec 32 := Scalar.maxsi c0_i32_645 v1094
  let v1096 : BitVec 32 := Scalar.minsi c256_i32_646 v1095
  let v1805 : BitVec 32 := Scalar.subi v1096 v1093
  let c1_i32_1196 : BitVec 32 := 1#32
  let v1807 : BitVec 32 := Scalar.divsi v1805 c1_i32_1196
  let v1808 : BitVec 32 := Scalar.muli v1807 c1_i32_1196
  let v1809 : BitVec 32 := Scalar.addi v1093 v1808
  let v1806 : BitVec 32 := Scalar.addi v1093 v1805
  let c1_i32_1198 : BitVec 32 := 1#32
  ⟨v1809, v1806, c1_i32_1198⟩
def k1_off415 (i : grid1.Coords) (v474 : BitVec 32) (v480 : BitVec 32) (k1_t104 : Fin (k1_t104_loop i v474 v480).trips) : Fin 2 → Nat :=
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let c256_i32_646 : BitVec 32 := 256#32
  let c0_i32_645 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c256_i32_644 : BitVec 32 := 256#32
  let v1094 : BitVec 32 := Scalar.subi v484 c256_i32_644
  let v1095 : BitVec 32 := Scalar.maxsi c0_i32_645 v1094
  let v1096 : BitVec 32 := Scalar.minsi c256_i32_646 v1095
  let v1805 : BitVec 32 := Scalar.subi v1096 v1093
  let c1_i32_1196 : BitVec 32 := 1#32
  let v1807 : BitVec 32 := Scalar.divsi v1805 c1_i32_1196
  let v1808 : BitVec 32 := Scalar.muli v1807 c1_i32_1196
  let v1809 : BitVec 32 := Scalar.addi v1093 v1808
  let c1_i32_1198 : BitVec 32 := 1#32
  let arg13 : BitVec 32 := Scf.iv v1809 c1_i32_1198 k1_t104
  let v1828 : Index := Scalar.indexCast arg13
  let c64 : Index := 64#32
  ![v1828.toNat, 64]
def k1_off416 (i : grid1.Coords) (v474 : BitVec 32) (v480 : BitVec 32) (k1_t104 : Fin (k1_t104_loop i v474 v480).trips) : Fin 2 → Nat :=
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let c256_i32_646 : BitVec 32 := 256#32
  let c0_i32_645 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c256_i32_644 : BitVec 32 := 256#32
  let v1094 : BitVec 32 := Scalar.subi v484 c256_i32_644
  let v1095 : BitVec 32 := Scalar.maxsi c0_i32_645 v1094
  let v1096 : BitVec 32 := Scalar.minsi c256_i32_646 v1095
  let v1805 : BitVec 32 := Scalar.subi v1096 v1093
  let c1_i32_1196 : BitVec 32 := 1#32
  let v1807 : BitVec 32 := Scalar.divsi v1805 c1_i32_1196
  let v1808 : BitVec 32 := Scalar.muli v1807 c1_i32_1196
  let v1809 : BitVec 32 := Scalar.addi v1093 v1808
  let c1_i32_1198 : BitVec 32 := 1#32
  let arg13 : BitVec 32 := Scf.iv v1809 c1_i32_1198 k1_t104
  let v1832 : Index := Scalar.indexCast arg13
  let c80 : Index := 80#32
  ![v1832.toNat, 80]
def k1_off417 (i : grid1.Coords) (v474 : BitVec 32) (v480 : BitVec 32) (k1_t104 : Fin (k1_t104_loop i v474 v480).trips) : Fin 2 → Nat :=
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let c256_i32_646 : BitVec 32 := 256#32
  let c0_i32_645 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c256_i32_644 : BitVec 32 := 256#32
  let v1094 : BitVec 32 := Scalar.subi v484 c256_i32_644
  let v1095 : BitVec 32 := Scalar.maxsi c0_i32_645 v1094
  let v1096 : BitVec 32 := Scalar.minsi c256_i32_646 v1095
  let v1805 : BitVec 32 := Scalar.subi v1096 v1093
  let c1_i32_1196 : BitVec 32 := 1#32
  let v1807 : BitVec 32 := Scalar.divsi v1805 c1_i32_1196
  let v1808 : BitVec 32 := Scalar.muli v1807 c1_i32_1196
  let v1809 : BitVec 32 := Scalar.addi v1093 v1808
  let c1_i32_1198 : BitVec 32 := 1#32
  let arg13 : BitVec 32 := Scf.iv v1809 c1_i32_1198 k1_t104
  let v1836 : Index := Scalar.indexCast arg13
  let c96 : Index := 96#32
  ![v1836.toNat, 96]
def k1_off418 (i : grid1.Coords) (v474 : BitVec 32) (v480 : BitVec 32) (k1_t104 : Fin (k1_t104_loop i v474 v480).trips) : Fin 2 → Nat :=
  let c256_i32_643 : BitVec 32 := 256#32
  let c0_i32_642 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c256_i32_641 : BitVec 32 := 256#32
  let v1091 : BitVec 32 := Scalar.subi v478 c256_i32_641
  let v1092 : BitVec 32 := Scalar.maxsi c0_i32_642 v1091
  let v1093 : BitVec 32 := Scalar.minsi c256_i32_643 v1092
  let c256_i32_646 : BitVec 32 := 256#32
  let c0_i32_645 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c256_i32_644 : BitVec 32 := 256#32
  let v1094 : BitVec 32 := Scalar.subi v484 c256_i32_644
  let v1095 : BitVec 32 := Scalar.maxsi c0_i32_645 v1094
  let v1096 : BitVec 32 := Scalar.minsi c256_i32_646 v1095
  let v1805 : BitVec 32 := Scalar.subi v1096 v1093
  let c1_i32_1196 : BitVec 32 := 1#32
  let v1807 : BitVec 32 := Scalar.divsi v1805 c1_i32_1196
  let v1808 : BitVec 32 := Scalar.muli v1807 c1_i32_1196
  let v1809 : BitVec 32 := Scalar.addi v1093 v1808
  let c1_i32_1198 : BitVec 32 := 1#32
  let arg13 : BitVec 32 := Scf.iv v1809 c1_i32_1198 k1_t104
  let v1840 : Index := Scalar.indexCast arg13
  let c112 : Index := 112#32
  ![v1840.toNat, 112]
@[reducible] def k1_t105_loop (i : grid1.Coords) (v486 : BitVec 32) (v491 : BitVec 32) : Scf.Loop 32 :=
  let c256_i32_650 : BitVec 32 := 256#32
  let c0_i32_649 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let c256_i32_653 : BitVec 32 := 256#32
  let c0_i32_652 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c256_i32_651 : BitVec 32 := 256#32
  let v1103 : BitVec 32 := Scalar.subi v494 c256_i32_651
  let v1104 : BitVec 32 := Scalar.maxsi c0_i32_652 v1103
  let v1105 : BitVec 32 := Scalar.minsi c256_i32_653 v1104
  let v1805 : BitVec 32 := Scalar.subi v1105 v1102
  let c1_i32_1196 : BitVec 32 := 1#32
  let v1807 : BitVec 32 := Scalar.divsi v1805 c1_i32_1196
  let v1808 : BitVec 32 := Scalar.muli v1807 c1_i32_1196
  let v1809 : BitVec 32 := Scalar.addi v1102 v1808
  let c1_i32_1197 : BitVec 32 := 1#32
  ⟨v1102, v1809, c1_i32_1197⟩
def k1_cond53 (i : grid1.Coords) (v486 : BitVec 32) (v491 : BitVec 32) : BitVec 1 :=
  let c256_i32_653 : BitVec 32 := 256#32
  let c0_i32_652 : BitVec 32 := 0#32
  let c1024_i32_214 : BitVec 32 := 1024#32
  let c0_i32_213 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v492 : BitVec 32 := Scalar.subi v491 v3
  let v493 : BitVec 32 := Scalar.maxsi c0_i32_213 v492
  let v494 : BitVec 32 := Scalar.minsi c1024_i32_214 v493
  let c256_i32_651 : BitVec 32 := 256#32
  let v1103 : BitVec 32 := Scalar.subi v494 c256_i32_651
  let v1104 : BitVec 32 := Scalar.maxsi c0_i32_652 v1103
  let v1105 : BitVec 32 := Scalar.minsi c256_i32_653 v1104
  let c256_i32_650 : BitVec 32 := 256#32
  let c0_i32_649 : BitVec 32 := 0#32
  let c1024_i32_212 : BitVec 32 := 1024#32
  let c0_i32_211 : BitVec 32 := 0#32
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let v1106 : BitVec 1 := Scalar.cmpi .sgt v1105 v1102
  let v1107 : BitVec 32 := Scalar.extui v1106
  let c0_i32_654 : BitVec 32 := 0#32
  let v1108 : BitVec 1 := Scalar.cmpi .ne v1107 c0_i32_654
  v1108

def k1_off419 (i : grid1.Coords) (v486 : BitVec 32) (v491 : BitVec 32) (k1_t105 : Fin (k1_t105_loop i v486 v491).trips) : Fin 2 → Nat :=
  let c256_i32_650 : BitVec 32 := 256#32
  let c0_i32_649 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let c1_i32_1197 : BitVec 32 := 1#32
  let arg13 : BitVec 32 := Scf.iv v1102 c1_i32_1197 k1_t105
  let v1828 : Index := Scalar.indexCast arg13
  let c0_1207 : Index := 0#32
  ![v1828.toNat, 0]
def k1_off420 (i : grid1.Coords) (v486 : BitVec 32) (v491 : BitVec 32) (k1_t105 : Fin (k1_t105_loop i v486 v491).trips) : Fin 2 → Nat :=
  let c256_i32_650 : BitVec 32 := 256#32
  let c0_i32_649 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let c1_i32_1197 : BitVec 32 := 1#32
  let arg13 : BitVec 32 := Scf.iv v1102 c1_i32_1197 k1_t105
  let v1832 : Index := Scalar.indexCast arg13
  let c16_1208 : Index := 16#32
  ![v1832.toNat, 16]
def k1_off421 (i : grid1.Coords) (v486 : BitVec 32) (v491 : BitVec 32) (k1_t105 : Fin (k1_t105_loop i v486 v491).trips) : Fin 2 → Nat :=
  let c256_i32_650 : BitVec 32 := 256#32
  let c0_i32_649 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let c1_i32_1197 : BitVec 32 := 1#32
  let arg13 : BitVec 32 := Scf.iv v1102 c1_i32_1197 k1_t105
  let v1836 : Index := Scalar.indexCast arg13
  let c32_1209 : Index := 32#32
  ![v1836.toNat, 32]
def k1_off422 (i : grid1.Coords) (v486 : BitVec 32) (v491 : BitVec 32) (k1_t105 : Fin (k1_t105_loop i v486 v491).trips) : Fin 2 → Nat :=
  let c256_i32_650 : BitVec 32 := 256#32
  let c0_i32_649 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let c1_i32_1197 : BitVec 32 := 1#32
  let arg13 : BitVec 32 := Scf.iv v1102 c1_i32_1197 k1_t105
  let v1840 : Index := Scalar.indexCast arg13
  let c48_1210 : Index := 48#32
  ![v1840.toNat, 48]
@[reducible] def k1_t106_loop (i : grid1.Coords) (v486 : BitVec 32) (v491 : BitVec 32) : Scf.Loop 32 :=
  let c256_i32_650 : BitVec 32 := 256#32
  let c0_i32_649 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let c256_i32_653 : BitVec 32 := 256#32
  let c0_i32_652 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c256_i32_651 : BitVec 32 := 256#32
  let v1103 : BitVec 32 := Scalar.subi v494 c256_i32_651
  let v1104 : BitVec 32 := Scalar.maxsi c0_i32_652 v1103
  let v1105 : BitVec 32 := Scalar.minsi c256_i32_653 v1104
  let v1805 : BitVec 32 := Scalar.subi v1105 v1102
  let c1_i32_1196 : BitVec 32 := 1#32
  let v1807 : BitVec 32 := Scalar.divsi v1805 c1_i32_1196
  let v1808 : BitVec 32 := Scalar.muli v1807 c1_i32_1196
  let v1809 : BitVec 32 := Scalar.addi v1102 v1808
  let v1806 : BitVec 32 := Scalar.addi v1102 v1805
  let c1_i32_1198 : BitVec 32 := 1#32
  ⟨v1809, v1806, c1_i32_1198⟩
def k1_off423 (i : grid1.Coords) (v486 : BitVec 32) (v491 : BitVec 32) (k1_t106 : Fin (k1_t106_loop i v486 v491).trips) : Fin 2 → Nat :=
  let c256_i32_650 : BitVec 32 := 256#32
  let c0_i32_649 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let c256_i32_653 : BitVec 32 := 256#32
  let c0_i32_652 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c256_i32_651 : BitVec 32 := 256#32
  let v1103 : BitVec 32 := Scalar.subi v494 c256_i32_651
  let v1104 : BitVec 32 := Scalar.maxsi c0_i32_652 v1103
  let v1105 : BitVec 32 := Scalar.minsi c256_i32_653 v1104
  let v1805 : BitVec 32 := Scalar.subi v1105 v1102
  let c1_i32_1196 : BitVec 32 := 1#32
  let v1807 : BitVec 32 := Scalar.divsi v1805 c1_i32_1196
  let v1808 : BitVec 32 := Scalar.muli v1807 c1_i32_1196
  let v1809 : BitVec 32 := Scalar.addi v1102 v1808
  let c1_i32_1198 : BitVec 32 := 1#32
  let arg13 : BitVec 32 := Scf.iv v1809 c1_i32_1198 k1_t106
  let v1828 : Index := Scalar.indexCast arg13
  let c0_1207 : Index := 0#32
  ![v1828.toNat, 0]
def k1_off424 (i : grid1.Coords) (v486 : BitVec 32) (v491 : BitVec 32) (k1_t106 : Fin (k1_t106_loop i v486 v491).trips) : Fin 2 → Nat :=
  let c256_i32_650 : BitVec 32 := 256#32
  let c0_i32_649 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let c256_i32_653 : BitVec 32 := 256#32
  let c0_i32_652 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c256_i32_651 : BitVec 32 := 256#32
  let v1103 : BitVec 32 := Scalar.subi v494 c256_i32_651
  let v1104 : BitVec 32 := Scalar.maxsi c0_i32_652 v1103
  let v1105 : BitVec 32 := Scalar.minsi c256_i32_653 v1104
  let v1805 : BitVec 32 := Scalar.subi v1105 v1102
  let c1_i32_1196 : BitVec 32 := 1#32
  let v1807 : BitVec 32 := Scalar.divsi v1805 c1_i32_1196
  let v1808 : BitVec 32 := Scalar.muli v1807 c1_i32_1196
  let v1809 : BitVec 32 := Scalar.addi v1102 v1808
  let c1_i32_1198 : BitVec 32 := 1#32
  let arg13 : BitVec 32 := Scf.iv v1809 c1_i32_1198 k1_t106
  let v1832 : Index := Scalar.indexCast arg13
  let c16_1208 : Index := 16#32
  ![v1832.toNat, 16]
def k1_off425 (i : grid1.Coords) (v486 : BitVec 32) (v491 : BitVec 32) (k1_t106 : Fin (k1_t106_loop i v486 v491).trips) : Fin 2 → Nat :=
  let c256_i32_650 : BitVec 32 := 256#32
  let c0_i32_649 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let c256_i32_653 : BitVec 32 := 256#32
  let c0_i32_652 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c256_i32_651 : BitVec 32 := 256#32
  let v1103 : BitVec 32 := Scalar.subi v494 c256_i32_651
  let v1104 : BitVec 32 := Scalar.maxsi c0_i32_652 v1103
  let v1105 : BitVec 32 := Scalar.minsi c256_i32_653 v1104
  let v1805 : BitVec 32 := Scalar.subi v1105 v1102
  let c1_i32_1196 : BitVec 32 := 1#32
  let v1807 : BitVec 32 := Scalar.divsi v1805 c1_i32_1196
  let v1808 : BitVec 32 := Scalar.muli v1807 c1_i32_1196
  let v1809 : BitVec 32 := Scalar.addi v1102 v1808
  let c1_i32_1198 : BitVec 32 := 1#32
  let arg13 : BitVec 32 := Scf.iv v1809 c1_i32_1198 k1_t106
  let v1836 : Index := Scalar.indexCast arg13
  let c32_1209 : Index := 32#32
  ![v1836.toNat, 32]
def k1_off426 (i : grid1.Coords) (v486 : BitVec 32) (v491 : BitVec 32) (k1_t106 : Fin (k1_t106_loop i v486 v491).trips) : Fin 2 → Nat :=
  let c256_i32_650 : BitVec 32 := 256#32
  let c0_i32_649 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c256_i32_648 : BitVec 32 := 256#32
  let v1100 : BitVec 32 := Scalar.subi v489 c256_i32_648
  let v1101 : BitVec 32 := Scalar.maxsi c0_i32_649 v1100
  let v1102 : BitVec 32 := Scalar.minsi c256_i32_650 v1101
  let c256_i32_653 : BitVec 32 := 256#32
  let c0_i32_652 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c256_i32_651 : BitVec 32 := 256#32
  let v1103 : BitVec 32 := Scalar.subi v494 c256_i32_651
  let v1104 : BitVec 32 := Scalar.maxsi c0_i32_652 v1103
  let v1105 : BitVec 32 := Scalar.minsi c256_i32_653 v1104
  let v1805 : BitVec 32 := Scalar.subi v1105 v1102
  let c1_i32_1196 : BitVec 32 := 1#32
  let v1807 : BitVec 32 := Scalar.divsi v1805 c1_i32_1196
  let v1808 : BitVec 32 := Scalar.muli v1807 c1_i32_1196
  let v1809 : BitVec 32 := Scalar.addi v1102 v1808
  let c1_i32_1198 : BitVec 32 := 1#32
  let arg13 : BitVec 32 := Scf.iv v1809 c1_i32_1198 k1_t106
  let v1840 : Index := Scalar.indexCast arg13
  let c48_1210 : Index := 48#32
  ![v1840.toNat, 48]
@[reducible] def k1_t107_loop (i : grid1.Coords) (v496 : BitVec 32) (v502 : BitVec 32) : Scf.Loop 32 :=
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let c256_i32_660 : BitVec 32 := 256#32
  let c0_i32_659 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c256_i32_658 : BitVec 32 := 256#32
  let v1112 : BitVec 32 := Scalar.subi v506 c256_i32_658
  let v1113 : BitVec 32 := Scalar.maxsi c0_i32_659 v1112
  let v1114 : BitVec 32 := Scalar.minsi c256_i32_660 v1113
  let v1805 : BitVec 32 := Scalar.subi v1114 v1111
  let c1_i32_1196 : BitVec 32 := 1#32
  let v1807 : BitVec 32 := Scalar.divsi v1805 c1_i32_1196
  let v1808 : BitVec 32 := Scalar.muli v1807 c1_i32_1196
  let v1809 : BitVec 32 := Scalar.addi v1111 v1808
  let c1_i32_1197 : BitVec 32 := 1#32
  ⟨v1111, v1809, c1_i32_1197⟩
def k1_cond54 (i : grid1.Coords) (v496 : BitVec 32) (v502 : BitVec 32) : BitVec 1 :=
  let c256_i32_660 : BitVec 32 := 256#32
  let c0_i32_659 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v504 : BitVec 32 := Scalar.subi v503 v3
  let v505 : BitVec 32 := Scalar.maxsi c0_i32_219 v504
  let v506 : BitVec 32 := Scalar.minsi c1024_i32_220 v505
  let c256_i32_658 : BitVec 32 := 256#32
  let v1112 : BitVec 32 := Scalar.subi v506 c256_i32_658
  let v1113 : BitVec 32 := Scalar.maxsi c0_i32_659 v1112
  let v1114 : BitVec 32 := Scalar.minsi c256_i32_660 v1113
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let v1115 : BitVec 1 := Scalar.cmpi .sgt v1114 v1111
  let v1116 : BitVec 32 := Scalar.extui v1115
  let c0_i32_661 : BitVec 32 := 0#32
  let v1117 : BitVec 1 := Scalar.cmpi .ne v1116 c0_i32_661
  v1117

def k1_off427 (i : grid1.Coords) (v496 : BitVec 32) (v502 : BitVec 32) (k1_t107 : Fin (k1_t107_loop i v496 v502).trips) : Fin 2 → Nat :=
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let c1_i32_1197 : BitVec 32 := 1#32
  let arg13 : BitVec 32 := Scf.iv v1111 c1_i32_1197 k1_t107
  let v1828 : Index := Scalar.indexCast arg13
  let c64 : Index := 64#32
  ![v1828.toNat, 64]
def k1_off428 (i : grid1.Coords) (v496 : BitVec 32) (v502 : BitVec 32) (k1_t107 : Fin (k1_t107_loop i v496 v502).trips) : Fin 2 → Nat :=
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let c1_i32_1197 : BitVec 32 := 1#32
  let arg13 : BitVec 32 := Scf.iv v1111 c1_i32_1197 k1_t107
  let v1832 : Index := Scalar.indexCast arg13
  let c80 : Index := 80#32
  ![v1832.toNat, 80]
def k1_off429 (i : grid1.Coords) (v496 : BitVec 32) (v502 : BitVec 32) (k1_t107 : Fin (k1_t107_loop i v496 v502).trips) : Fin 2 → Nat :=
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let c1_i32_1197 : BitVec 32 := 1#32
  let arg13 : BitVec 32 := Scf.iv v1111 c1_i32_1197 k1_t107
  let v1836 : Index := Scalar.indexCast arg13
  let c96 : Index := 96#32
  ![v1836.toNat, 96]
def k1_off430 (i : grid1.Coords) (v496 : BitVec 32) (v502 : BitVec 32) (k1_t107 : Fin (k1_t107_loop i v496 v502).trips) : Fin 2 → Nat :=
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let c1_i32_1197 : BitVec 32 := 1#32
  let arg13 : BitVec 32 := Scf.iv v1111 c1_i32_1197 k1_t107
  let v1840 : Index := Scalar.indexCast arg13
  let c112 : Index := 112#32
  ![v1840.toNat, 112]
@[reducible] def k1_t108_loop (i : grid1.Coords) (v496 : BitVec 32) (v502 : BitVec 32) : Scf.Loop 32 :=
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let c256_i32_660 : BitVec 32 := 256#32
  let c0_i32_659 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c256_i32_658 : BitVec 32 := 256#32
  let v1112 : BitVec 32 := Scalar.subi v506 c256_i32_658
  let v1113 : BitVec 32 := Scalar.maxsi c0_i32_659 v1112
  let v1114 : BitVec 32 := Scalar.minsi c256_i32_660 v1113
  let v1805 : BitVec 32 := Scalar.subi v1114 v1111
  let c1_i32_1196 : BitVec 32 := 1#32
  let v1807 : BitVec 32 := Scalar.divsi v1805 c1_i32_1196
  let v1808 : BitVec 32 := Scalar.muli v1807 c1_i32_1196
  let v1809 : BitVec 32 := Scalar.addi v1111 v1808
  let v1806 : BitVec 32 := Scalar.addi v1111 v1805
  let c1_i32_1198 : BitVec 32 := 1#32
  ⟨v1809, v1806, c1_i32_1198⟩
def k1_off431 (i : grid1.Coords) (v496 : BitVec 32) (v502 : BitVec 32) (k1_t108 : Fin (k1_t108_loop i v496 v502).trips) : Fin 2 → Nat :=
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let c256_i32_660 : BitVec 32 := 256#32
  let c0_i32_659 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c256_i32_658 : BitVec 32 := 256#32
  let v1112 : BitVec 32 := Scalar.subi v506 c256_i32_658
  let v1113 : BitVec 32 := Scalar.maxsi c0_i32_659 v1112
  let v1114 : BitVec 32 := Scalar.minsi c256_i32_660 v1113
  let v1805 : BitVec 32 := Scalar.subi v1114 v1111
  let c1_i32_1196 : BitVec 32 := 1#32
  let v1807 : BitVec 32 := Scalar.divsi v1805 c1_i32_1196
  let v1808 : BitVec 32 := Scalar.muli v1807 c1_i32_1196
  let v1809 : BitVec 32 := Scalar.addi v1111 v1808
  let c1_i32_1198 : BitVec 32 := 1#32
  let arg13 : BitVec 32 := Scf.iv v1809 c1_i32_1198 k1_t108
  let v1828 : Index := Scalar.indexCast arg13
  let c64 : Index := 64#32
  ![v1828.toNat, 64]
def k1_off432 (i : grid1.Coords) (v496 : BitVec 32) (v502 : BitVec 32) (k1_t108 : Fin (k1_t108_loop i v496 v502).trips) : Fin 2 → Nat :=
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let c256_i32_660 : BitVec 32 := 256#32
  let c0_i32_659 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c256_i32_658 : BitVec 32 := 256#32
  let v1112 : BitVec 32 := Scalar.subi v506 c256_i32_658
  let v1113 : BitVec 32 := Scalar.maxsi c0_i32_659 v1112
  let v1114 : BitVec 32 := Scalar.minsi c256_i32_660 v1113
  let v1805 : BitVec 32 := Scalar.subi v1114 v1111
  let c1_i32_1196 : BitVec 32 := 1#32
  let v1807 : BitVec 32 := Scalar.divsi v1805 c1_i32_1196
  let v1808 : BitVec 32 := Scalar.muli v1807 c1_i32_1196
  let v1809 : BitVec 32 := Scalar.addi v1111 v1808
  let c1_i32_1198 : BitVec 32 := 1#32
  let arg13 : BitVec 32 := Scf.iv v1809 c1_i32_1198 k1_t108
  let v1832 : Index := Scalar.indexCast arg13
  let c80 : Index := 80#32
  ![v1832.toNat, 80]
def k1_off433 (i : grid1.Coords) (v496 : BitVec 32) (v502 : BitVec 32) (k1_t108 : Fin (k1_t108_loop i v496 v502).trips) : Fin 2 → Nat :=
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let c256_i32_660 : BitVec 32 := 256#32
  let c0_i32_659 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c256_i32_658 : BitVec 32 := 256#32
  let v1112 : BitVec 32 := Scalar.subi v506 c256_i32_658
  let v1113 : BitVec 32 := Scalar.maxsi c0_i32_659 v1112
  let v1114 : BitVec 32 := Scalar.minsi c256_i32_660 v1113
  let v1805 : BitVec 32 := Scalar.subi v1114 v1111
  let c1_i32_1196 : BitVec 32 := 1#32
  let v1807 : BitVec 32 := Scalar.divsi v1805 c1_i32_1196
  let v1808 : BitVec 32 := Scalar.muli v1807 c1_i32_1196
  let v1809 : BitVec 32 := Scalar.addi v1111 v1808
  let c1_i32_1198 : BitVec 32 := 1#32
  let arg13 : BitVec 32 := Scf.iv v1809 c1_i32_1198 k1_t108
  let v1836 : Index := Scalar.indexCast arg13
  let c96 : Index := 96#32
  ![v1836.toNat, 96]
def k1_off434 (i : grid1.Coords) (v496 : BitVec 32) (v502 : BitVec 32) (k1_t108 : Fin (k1_t108_loop i v496 v502).trips) : Fin 2 → Nat :=
  let c256_i32_657 : BitVec 32 := 256#32
  let c0_i32_656 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c256_i32_655 : BitVec 32 := 256#32
  let v1109 : BitVec 32 := Scalar.subi v500 c256_i32_655
  let v1110 : BitVec 32 := Scalar.maxsi c0_i32_656 v1109
  let v1111 : BitVec 32 := Scalar.minsi c256_i32_657 v1110
  let c256_i32_660 : BitVec 32 := 256#32
  let c0_i32_659 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c256_i32_658 : BitVec 32 := 256#32
  let v1112 : BitVec 32 := Scalar.subi v506 c256_i32_658
  let v1113 : BitVec 32 := Scalar.maxsi c0_i32_659 v1112
  let v1114 : BitVec 32 := Scalar.minsi c256_i32_660 v1113
  let v1805 : BitVec 32 := Scalar.subi v1114 v1111
  let c1_i32_1196 : BitVec 32 := 1#32
  let v1807 : BitVec 32 := Scalar.divsi v1805 c1_i32_1196
  let v1808 : BitVec 32 := Scalar.muli v1807 c1_i32_1196
  let v1809 : BitVec 32 := Scalar.addi v1111 v1808
  let c1_i32_1198 : BitVec 32 := 1#32
  let arg13 : BitVec 32 := Scf.iv v1809 c1_i32_1198 k1_t108
  let v1840 : Index := Scalar.indexCast arg13
  let c112 : Index := 112#32
  ![v1840.toNat, 112]
@[reducible] def k1_t109_loop (i : grid1.Coords) (v508 : BitVec 32) (v513 : BitVec 32) : Scf.Loop 32 :=
  let c256_i32_664 : BitVec 32 := 256#32
  let c0_i32_663 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let c256_i32_667 : BitVec 32 := 256#32
  let c0_i32_666 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c256_i32_665 : BitVec 32 := 256#32
  let v1121 : BitVec 32 := Scalar.subi v516 c256_i32_665
  let v1122 : BitVec 32 := Scalar.maxsi c0_i32_666 v1121
  let v1123 : BitVec 32 := Scalar.minsi c256_i32_667 v1122
  let v1805 : BitVec 32 := Scalar.subi v1123 v1120
  let c1_i32_1196 : BitVec 32 := 1#32
  let v1807 : BitVec 32 := Scalar.divsi v1805 c1_i32_1196
  let v1808 : BitVec 32 := Scalar.muli v1807 c1_i32_1196
  let v1809 : BitVec 32 := Scalar.addi v1120 v1808
  let c1_i32_1197 : BitVec 32 := 1#32
  ⟨v1120, v1809, c1_i32_1197⟩
def k1_cond55 (i : grid1.Coords) (v508 : BitVec 32) (v513 : BitVec 32) : BitVec 1 :=
  let c256_i32_667 : BitVec 32 := 256#32
  let c0_i32_666 : BitVec 32 := 0#32
  let c1024_i32_224 : BitVec 32 := 1024#32
  let c0_i32_223 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v514 : BitVec 32 := Scalar.subi v513 v3
  let v515 : BitVec 32 := Scalar.maxsi c0_i32_223 v514
  let v516 : BitVec 32 := Scalar.minsi c1024_i32_224 v515
  let c256_i32_665 : BitVec 32 := 256#32
  let v1121 : BitVec 32 := Scalar.subi v516 c256_i32_665
  let v1122 : BitVec 32 := Scalar.maxsi c0_i32_666 v1121
  let v1123 : BitVec 32 := Scalar.minsi c256_i32_667 v1122
  let c256_i32_664 : BitVec 32 := 256#32
  let c0_i32_663 : BitVec 32 := 0#32
  let c1024_i32_222 : BitVec 32 := 1024#32
  let c0_i32_221 : BitVec 32 := 0#32
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let v1124 : BitVec 1 := Scalar.cmpi .sgt v1123 v1120
  let v1125 : BitVec 32 := Scalar.extui v1124
  let c0_i32_668 : BitVec 32 := 0#32
  let v1126 : BitVec 1 := Scalar.cmpi .ne v1125 c0_i32_668
  v1126

def k1_off435 (i : grid1.Coords) (v508 : BitVec 32) (v513 : BitVec 32) (k1_t109 : Fin (k1_t109_loop i v508 v513).trips) : Fin 2 → Nat :=
  let c256_i32_664 : BitVec 32 := 256#32
  let c0_i32_663 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let c1_i32_1197 : BitVec 32 := 1#32
  let arg13 : BitVec 32 := Scf.iv v1120 c1_i32_1197 k1_t109
  let v1828 : Index := Scalar.indexCast arg13
  let c0_1207 : Index := 0#32
  ![v1828.toNat, 0]
def k1_off436 (i : grid1.Coords) (v508 : BitVec 32) (v513 : BitVec 32) (k1_t109 : Fin (k1_t109_loop i v508 v513).trips) : Fin 2 → Nat :=
  let c256_i32_664 : BitVec 32 := 256#32
  let c0_i32_663 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let c1_i32_1197 : BitVec 32 := 1#32
  let arg13 : BitVec 32 := Scf.iv v1120 c1_i32_1197 k1_t109
  let v1832 : Index := Scalar.indexCast arg13
  let c16_1208 : Index := 16#32
  ![v1832.toNat, 16]
def k1_off437 (i : grid1.Coords) (v508 : BitVec 32) (v513 : BitVec 32) (k1_t109 : Fin (k1_t109_loop i v508 v513).trips) : Fin 2 → Nat :=
  let c256_i32_664 : BitVec 32 := 256#32
  let c0_i32_663 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let c1_i32_1197 : BitVec 32 := 1#32
  let arg13 : BitVec 32 := Scf.iv v1120 c1_i32_1197 k1_t109
  let v1836 : Index := Scalar.indexCast arg13
  let c32_1209 : Index := 32#32
  ![v1836.toNat, 32]
def k1_off438 (i : grid1.Coords) (v508 : BitVec 32) (v513 : BitVec 32) (k1_t109 : Fin (k1_t109_loop i v508 v513).trips) : Fin 2 → Nat :=
  let c256_i32_664 : BitVec 32 := 256#32
  let c0_i32_663 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let c1_i32_1197 : BitVec 32 := 1#32
  let arg13 : BitVec 32 := Scf.iv v1120 c1_i32_1197 k1_t109
  let v1840 : Index := Scalar.indexCast arg13
  let c48_1210 : Index := 48#32
  ![v1840.toNat, 48]
@[reducible] def k1_t110_loop (i : grid1.Coords) (v508 : BitVec 32) (v513 : BitVec 32) : Scf.Loop 32 :=
  let c256_i32_664 : BitVec 32 := 256#32
  let c0_i32_663 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let c256_i32_667 : BitVec 32 := 256#32
  let c0_i32_666 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c256_i32_665 : BitVec 32 := 256#32
  let v1121 : BitVec 32 := Scalar.subi v516 c256_i32_665
  let v1122 : BitVec 32 := Scalar.maxsi c0_i32_666 v1121
  let v1123 : BitVec 32 := Scalar.minsi c256_i32_667 v1122
  let v1805 : BitVec 32 := Scalar.subi v1123 v1120
  let c1_i32_1196 : BitVec 32 := 1#32
  let v1807 : BitVec 32 := Scalar.divsi v1805 c1_i32_1196
  let v1808 : BitVec 32 := Scalar.muli v1807 c1_i32_1196
  let v1809 : BitVec 32 := Scalar.addi v1120 v1808
  let v1806 : BitVec 32 := Scalar.addi v1120 v1805
  let c1_i32_1198 : BitVec 32 := 1#32
  ⟨v1809, v1806, c1_i32_1198⟩
def k1_off439 (i : grid1.Coords) (v508 : BitVec 32) (v513 : BitVec 32) (k1_t110 : Fin (k1_t110_loop i v508 v513).trips) : Fin 2 → Nat :=
  let c256_i32_664 : BitVec 32 := 256#32
  let c0_i32_663 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let c256_i32_667 : BitVec 32 := 256#32
  let c0_i32_666 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c256_i32_665 : BitVec 32 := 256#32
  let v1121 : BitVec 32 := Scalar.subi v516 c256_i32_665
  let v1122 : BitVec 32 := Scalar.maxsi c0_i32_666 v1121
  let v1123 : BitVec 32 := Scalar.minsi c256_i32_667 v1122
  let v1805 : BitVec 32 := Scalar.subi v1123 v1120
  let c1_i32_1196 : BitVec 32 := 1#32
  let v1807 : BitVec 32 := Scalar.divsi v1805 c1_i32_1196
  let v1808 : BitVec 32 := Scalar.muli v1807 c1_i32_1196
  let v1809 : BitVec 32 := Scalar.addi v1120 v1808
  let c1_i32_1198 : BitVec 32 := 1#32
  let arg13 : BitVec 32 := Scf.iv v1809 c1_i32_1198 k1_t110
  let v1828 : Index := Scalar.indexCast arg13
  let c0_1207 : Index := 0#32
  ![v1828.toNat, 0]
def k1_off440 (i : grid1.Coords) (v508 : BitVec 32) (v513 : BitVec 32) (k1_t110 : Fin (k1_t110_loop i v508 v513).trips) : Fin 2 → Nat :=
  let c256_i32_664 : BitVec 32 := 256#32
  let c0_i32_663 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let c256_i32_667 : BitVec 32 := 256#32
  let c0_i32_666 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c256_i32_665 : BitVec 32 := 256#32
  let v1121 : BitVec 32 := Scalar.subi v516 c256_i32_665
  let v1122 : BitVec 32 := Scalar.maxsi c0_i32_666 v1121
  let v1123 : BitVec 32 := Scalar.minsi c256_i32_667 v1122
  let v1805 : BitVec 32 := Scalar.subi v1123 v1120
  let c1_i32_1196 : BitVec 32 := 1#32
  let v1807 : BitVec 32 := Scalar.divsi v1805 c1_i32_1196
  let v1808 : BitVec 32 := Scalar.muli v1807 c1_i32_1196
  let v1809 : BitVec 32 := Scalar.addi v1120 v1808
  let c1_i32_1198 : BitVec 32 := 1#32
  let arg13 : BitVec 32 := Scf.iv v1809 c1_i32_1198 k1_t110
  let v1832 : Index := Scalar.indexCast arg13
  let c16_1208 : Index := 16#32
  ![v1832.toNat, 16]
def k1_off441 (i : grid1.Coords) (v508 : BitVec 32) (v513 : BitVec 32) (k1_t110 : Fin (k1_t110_loop i v508 v513).trips) : Fin 2 → Nat :=
  let c256_i32_664 : BitVec 32 := 256#32
  let c0_i32_663 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let c256_i32_667 : BitVec 32 := 256#32
  let c0_i32_666 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c256_i32_665 : BitVec 32 := 256#32
  let v1121 : BitVec 32 := Scalar.subi v516 c256_i32_665
  let v1122 : BitVec 32 := Scalar.maxsi c0_i32_666 v1121
  let v1123 : BitVec 32 := Scalar.minsi c256_i32_667 v1122
  let v1805 : BitVec 32 := Scalar.subi v1123 v1120
  let c1_i32_1196 : BitVec 32 := 1#32
  let v1807 : BitVec 32 := Scalar.divsi v1805 c1_i32_1196
  let v1808 : BitVec 32 := Scalar.muli v1807 c1_i32_1196
  let v1809 : BitVec 32 := Scalar.addi v1120 v1808
  let c1_i32_1198 : BitVec 32 := 1#32
  let arg13 : BitVec 32 := Scf.iv v1809 c1_i32_1198 k1_t110
  let v1836 : Index := Scalar.indexCast arg13
  let c32_1209 : Index := 32#32
  ![v1836.toNat, 32]
def k1_off442 (i : grid1.Coords) (v508 : BitVec 32) (v513 : BitVec 32) (k1_t110 : Fin (k1_t110_loop i v508 v513).trips) : Fin 2 → Nat :=
  let c256_i32_664 : BitVec 32 := 256#32
  let c0_i32_663 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c256_i32_662 : BitVec 32 := 256#32
  let v1118 : BitVec 32 := Scalar.subi v511 c256_i32_662
  let v1119 : BitVec 32 := Scalar.maxsi c0_i32_663 v1118
  let v1120 : BitVec 32 := Scalar.minsi c256_i32_664 v1119
  let c256_i32_667 : BitVec 32 := 256#32
  let c0_i32_666 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c256_i32_665 : BitVec 32 := 256#32
  let v1121 : BitVec 32 := Scalar.subi v516 c256_i32_665
  let v1122 : BitVec 32 := Scalar.maxsi c0_i32_666 v1121
  let v1123 : BitVec 32 := Scalar.minsi c256_i32_667 v1122
  let v1805 : BitVec 32 := Scalar.subi v1123 v1120
  let c1_i32_1196 : BitVec 32 := 1#32
  let v1807 : BitVec 32 := Scalar.divsi v1805 c1_i32_1196
  let v1808 : BitVec 32 := Scalar.muli v1807 c1_i32_1196
  let v1809 : BitVec 32 := Scalar.addi v1120 v1808
  let c1_i32_1198 : BitVec 32 := 1#32
  let arg13 : BitVec 32 := Scf.iv v1809 c1_i32_1198 k1_t110
  let v1840 : Index := Scalar.indexCast arg13
  let c48_1210 : Index := 48#32
  ![v1840.toNat, 48]
@[reducible] def k1_t111_loop (i : grid1.Coords) (v518 : BitVec 32) (v524 : BitVec 32) : Scf.Loop 32 :=
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let c256_i32_674 : BitVec 32 := 256#32
  let c0_i32_673 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c256_i32_672 : BitVec 32 := 256#32
  let v1130 : BitVec 32 := Scalar.subi v528 c256_i32_672
  let v1131 : BitVec 32 := Scalar.maxsi c0_i32_673 v1130
  let v1132 : BitVec 32 := Scalar.minsi c256_i32_674 v1131
  let v1805 : BitVec 32 := Scalar.subi v1132 v1129
  let c1_i32_1196 : BitVec 32 := 1#32
  let v1807 : BitVec 32 := Scalar.divsi v1805 c1_i32_1196
  let v1808 : BitVec 32 := Scalar.muli v1807 c1_i32_1196
  let v1809 : BitVec 32 := Scalar.addi v1129 v1808
  let c1_i32_1197 : BitVec 32 := 1#32
  ⟨v1129, v1809, c1_i32_1197⟩
def k1_cond56 (i : grid1.Coords) (v518 : BitVec 32) (v524 : BitVec 32) : BitVec 1 :=
  let c256_i32_674 : BitVec 32 := 256#32
  let c0_i32_673 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v526 : BitVec 32 := Scalar.subi v525 v3
  let v527 : BitVec 32 := Scalar.maxsi c0_i32_229 v526
  let v528 : BitVec 32 := Scalar.minsi c1024_i32_230 v527
  let c256_i32_672 : BitVec 32 := 256#32
  let v1130 : BitVec 32 := Scalar.subi v528 c256_i32_672
  let v1131 : BitVec 32 := Scalar.maxsi c0_i32_673 v1130
  let v1132 : BitVec 32 := Scalar.minsi c256_i32_674 v1131
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let v1133 : BitVec 1 := Scalar.cmpi .sgt v1132 v1129
  let v1134 : BitVec 32 := Scalar.extui v1133
  let c0_i32_675 : BitVec 32 := 0#32
  let v1135 : BitVec 1 := Scalar.cmpi .ne v1134 c0_i32_675
  v1135

def k1_off443 (i : grid1.Coords) (v518 : BitVec 32) (v524 : BitVec 32) (k1_t111 : Fin (k1_t111_loop i v518 v524).trips) : Fin 2 → Nat :=
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let c1_i32_1197 : BitVec 32 := 1#32
  let arg13 : BitVec 32 := Scf.iv v1129 c1_i32_1197 k1_t111
  let v1828 : Index := Scalar.indexCast arg13
  let c64 : Index := 64#32
  ![v1828.toNat, 64]
def k1_off444 (i : grid1.Coords) (v518 : BitVec 32) (v524 : BitVec 32) (k1_t111 : Fin (k1_t111_loop i v518 v524).trips) : Fin 2 → Nat :=
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let c1_i32_1197 : BitVec 32 := 1#32
  let arg13 : BitVec 32 := Scf.iv v1129 c1_i32_1197 k1_t111
  let v1832 : Index := Scalar.indexCast arg13
  let c80 : Index := 80#32
  ![v1832.toNat, 80]
def k1_off445 (i : grid1.Coords) (v518 : BitVec 32) (v524 : BitVec 32) (k1_t111 : Fin (k1_t111_loop i v518 v524).trips) : Fin 2 → Nat :=
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let c1_i32_1197 : BitVec 32 := 1#32
  let arg13 : BitVec 32 := Scf.iv v1129 c1_i32_1197 k1_t111
  let v1836 : Index := Scalar.indexCast arg13
  let c96 : Index := 96#32
  ![v1836.toNat, 96]
def k1_off446 (i : grid1.Coords) (v518 : BitVec 32) (v524 : BitVec 32) (k1_t111 : Fin (k1_t111_loop i v518 v524).trips) : Fin 2 → Nat :=
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let c1_i32_1197 : BitVec 32 := 1#32
  let arg13 : BitVec 32 := Scf.iv v1129 c1_i32_1197 k1_t111
  let v1840 : Index := Scalar.indexCast arg13
  let c112 : Index := 112#32
  ![v1840.toNat, 112]
@[reducible] def k1_t112_loop (i : grid1.Coords) (v518 : BitVec 32) (v524 : BitVec 32) : Scf.Loop 32 :=
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let c256_i32_674 : BitVec 32 := 256#32
  let c0_i32_673 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c256_i32_672 : BitVec 32 := 256#32
  let v1130 : BitVec 32 := Scalar.subi v528 c256_i32_672
  let v1131 : BitVec 32 := Scalar.maxsi c0_i32_673 v1130
  let v1132 : BitVec 32 := Scalar.minsi c256_i32_674 v1131
  let v1805 : BitVec 32 := Scalar.subi v1132 v1129
  let c1_i32_1196 : BitVec 32 := 1#32
  let v1807 : BitVec 32 := Scalar.divsi v1805 c1_i32_1196
  let v1808 : BitVec 32 := Scalar.muli v1807 c1_i32_1196
  let v1809 : BitVec 32 := Scalar.addi v1129 v1808
  let v1806 : BitVec 32 := Scalar.addi v1129 v1805
  let c1_i32_1198 : BitVec 32 := 1#32
  ⟨v1809, v1806, c1_i32_1198⟩
def k1_off447 (i : grid1.Coords) (v518 : BitVec 32) (v524 : BitVec 32) (k1_t112 : Fin (k1_t112_loop i v518 v524).trips) : Fin 2 → Nat :=
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let c256_i32_674 : BitVec 32 := 256#32
  let c0_i32_673 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c256_i32_672 : BitVec 32 := 256#32
  let v1130 : BitVec 32 := Scalar.subi v528 c256_i32_672
  let v1131 : BitVec 32 := Scalar.maxsi c0_i32_673 v1130
  let v1132 : BitVec 32 := Scalar.minsi c256_i32_674 v1131
  let v1805 : BitVec 32 := Scalar.subi v1132 v1129
  let c1_i32_1196 : BitVec 32 := 1#32
  let v1807 : BitVec 32 := Scalar.divsi v1805 c1_i32_1196
  let v1808 : BitVec 32 := Scalar.muli v1807 c1_i32_1196
  let v1809 : BitVec 32 := Scalar.addi v1129 v1808
  let c1_i32_1198 : BitVec 32 := 1#32
  let arg13 : BitVec 32 := Scf.iv v1809 c1_i32_1198 k1_t112
  let v1828 : Index := Scalar.indexCast arg13
  let c64 : Index := 64#32
  ![v1828.toNat, 64]
def k1_off448 (i : grid1.Coords) (v518 : BitVec 32) (v524 : BitVec 32) (k1_t112 : Fin (k1_t112_loop i v518 v524).trips) : Fin 2 → Nat :=
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let c256_i32_674 : BitVec 32 := 256#32
  let c0_i32_673 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c256_i32_672 : BitVec 32 := 256#32
  let v1130 : BitVec 32 := Scalar.subi v528 c256_i32_672
  let v1131 : BitVec 32 := Scalar.maxsi c0_i32_673 v1130
  let v1132 : BitVec 32 := Scalar.minsi c256_i32_674 v1131
  let v1805 : BitVec 32 := Scalar.subi v1132 v1129
  let c1_i32_1196 : BitVec 32 := 1#32
  let v1807 : BitVec 32 := Scalar.divsi v1805 c1_i32_1196
  let v1808 : BitVec 32 := Scalar.muli v1807 c1_i32_1196
  let v1809 : BitVec 32 := Scalar.addi v1129 v1808
  let c1_i32_1198 : BitVec 32 := 1#32
  let arg13 : BitVec 32 := Scf.iv v1809 c1_i32_1198 k1_t112
  let v1832 : Index := Scalar.indexCast arg13
  let c80 : Index := 80#32
  ![v1832.toNat, 80]
def k1_off449 (i : grid1.Coords) (v518 : BitVec 32) (v524 : BitVec 32) (k1_t112 : Fin (k1_t112_loop i v518 v524).trips) : Fin 2 → Nat :=
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let c256_i32_674 : BitVec 32 := 256#32
  let c0_i32_673 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c256_i32_672 : BitVec 32 := 256#32
  let v1130 : BitVec 32 := Scalar.subi v528 c256_i32_672
  let v1131 : BitVec 32 := Scalar.maxsi c0_i32_673 v1130
  let v1132 : BitVec 32 := Scalar.minsi c256_i32_674 v1131
  let v1805 : BitVec 32 := Scalar.subi v1132 v1129
  let c1_i32_1196 : BitVec 32 := 1#32
  let v1807 : BitVec 32 := Scalar.divsi v1805 c1_i32_1196
  let v1808 : BitVec 32 := Scalar.muli v1807 c1_i32_1196
  let v1809 : BitVec 32 := Scalar.addi v1129 v1808
  let c1_i32_1198 : BitVec 32 := 1#32
  let arg13 : BitVec 32 := Scf.iv v1809 c1_i32_1198 k1_t112
  let v1836 : Index := Scalar.indexCast arg13
  let c96 : Index := 96#32
  ![v1836.toNat, 96]
def k1_off450 (i : grid1.Coords) (v518 : BitVec 32) (v524 : BitVec 32) (k1_t112 : Fin (k1_t112_loop i v518 v524).trips) : Fin 2 → Nat :=
  let c256_i32_671 : BitVec 32 := 256#32
  let c0_i32_670 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c256_i32_669 : BitVec 32 := 256#32
  let v1127 : BitVec 32 := Scalar.subi v522 c256_i32_669
  let v1128 : BitVec 32 := Scalar.maxsi c0_i32_670 v1127
  let v1129 : BitVec 32 := Scalar.minsi c256_i32_671 v1128
  let c256_i32_674 : BitVec 32 := 256#32
  let c0_i32_673 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c256_i32_672 : BitVec 32 := 256#32
  let v1130 : BitVec 32 := Scalar.subi v528 c256_i32_672
  let v1131 : BitVec 32 := Scalar.maxsi c0_i32_673 v1130
  let v1132 : BitVec 32 := Scalar.minsi c256_i32_674 v1131
  let v1805 : BitVec 32 := Scalar.subi v1132 v1129
  let c1_i32_1196 : BitVec 32 := 1#32
  let v1807 : BitVec 32 := Scalar.divsi v1805 c1_i32_1196
  let v1808 : BitVec 32 := Scalar.muli v1807 c1_i32_1196
  let v1809 : BitVec 32 := Scalar.addi v1129 v1808
  let c1_i32_1198 : BitVec 32 := 1#32
  let arg13 : BitVec 32 := Scf.iv v1809 c1_i32_1198 k1_t112
  let v1840 : Index := Scalar.indexCast arg13
  let c112 : Index := 112#32
  ![v1840.toNat, 112]
@[reducible] def k1_t113_loop (i : grid1.Coords) (v530 : BitVec 32) (v535 : BitVec 32) : Scf.Loop 32 :=
  let c256_i32_678 : BitVec 32 := 256#32
  let c0_i32_677 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let c256_i32_681 : BitVec 32 := 256#32
  let c0_i32_680 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c256_i32_679 : BitVec 32 := 256#32
  let v1139 : BitVec 32 := Scalar.subi v538 c256_i32_679
  let v1140 : BitVec 32 := Scalar.maxsi c0_i32_680 v1139
  let v1141 : BitVec 32 := Scalar.minsi c256_i32_681 v1140
  let v1805 : BitVec 32 := Scalar.subi v1141 v1138
  let c1_i32_1196 : BitVec 32 := 1#32
  let v1807 : BitVec 32 := Scalar.divsi v1805 c1_i32_1196
  let v1808 : BitVec 32 := Scalar.muli v1807 c1_i32_1196
  let v1809 : BitVec 32 := Scalar.addi v1138 v1808
  let c1_i32_1197 : BitVec 32 := 1#32
  ⟨v1138, v1809, c1_i32_1197⟩
def k1_cond57 (i : grid1.Coords) (v530 : BitVec 32) (v535 : BitVec 32) : BitVec 1 :=
  let c256_i32_681 : BitVec 32 := 256#32
  let c0_i32_680 : BitVec 32 := 0#32
  let c1024_i32_234 : BitVec 32 := 1024#32
  let c0_i32_233 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v536 : BitVec 32 := Scalar.subi v535 v3
  let v537 : BitVec 32 := Scalar.maxsi c0_i32_233 v536
  let v538 : BitVec 32 := Scalar.minsi c1024_i32_234 v537
  let c256_i32_679 : BitVec 32 := 256#32
  let v1139 : BitVec 32 := Scalar.subi v538 c256_i32_679
  let v1140 : BitVec 32 := Scalar.maxsi c0_i32_680 v1139
  let v1141 : BitVec 32 := Scalar.minsi c256_i32_681 v1140
  let c256_i32_678 : BitVec 32 := 256#32
  let c0_i32_677 : BitVec 32 := 0#32
  let c1024_i32_232 : BitVec 32 := 1024#32
  let c0_i32_231 : BitVec 32 := 0#32
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let v1142 : BitVec 1 := Scalar.cmpi .sgt v1141 v1138
  let v1143 : BitVec 32 := Scalar.extui v1142
  let c0_i32_682 : BitVec 32 := 0#32
  let v1144 : BitVec 1 := Scalar.cmpi .ne v1143 c0_i32_682
  v1144

def k1_off451 (i : grid1.Coords) (v530 : BitVec 32) (v535 : BitVec 32) (k1_t113 : Fin (k1_t113_loop i v530 v535).trips) : Fin 2 → Nat :=
  let c256_i32_678 : BitVec 32 := 256#32
  let c0_i32_677 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let c1_i32_1197 : BitVec 32 := 1#32
  let arg13 : BitVec 32 := Scf.iv v1138 c1_i32_1197 k1_t113
  let v1828 : Index := Scalar.indexCast arg13
  let c0_1207 : Index := 0#32
  ![v1828.toNat, 0]
def k1_off452 (i : grid1.Coords) (v530 : BitVec 32) (v535 : BitVec 32) (k1_t113 : Fin (k1_t113_loop i v530 v535).trips) : Fin 2 → Nat :=
  let c256_i32_678 : BitVec 32 := 256#32
  let c0_i32_677 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let c1_i32_1197 : BitVec 32 := 1#32
  let arg13 : BitVec 32 := Scf.iv v1138 c1_i32_1197 k1_t113
  let v1832 : Index := Scalar.indexCast arg13
  let c16_1208 : Index := 16#32
  ![v1832.toNat, 16]
def k1_off453 (i : grid1.Coords) (v530 : BitVec 32) (v535 : BitVec 32) (k1_t113 : Fin (k1_t113_loop i v530 v535).trips) : Fin 2 → Nat :=
  let c256_i32_678 : BitVec 32 := 256#32
  let c0_i32_677 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let c1_i32_1197 : BitVec 32 := 1#32
  let arg13 : BitVec 32 := Scf.iv v1138 c1_i32_1197 k1_t113
  let v1836 : Index := Scalar.indexCast arg13
  let c32_1209 : Index := 32#32
  ![v1836.toNat, 32]
def k1_off454 (i : grid1.Coords) (v530 : BitVec 32) (v535 : BitVec 32) (k1_t113 : Fin (k1_t113_loop i v530 v535).trips) : Fin 2 → Nat :=
  let c256_i32_678 : BitVec 32 := 256#32
  let c0_i32_677 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let c1_i32_1197 : BitVec 32 := 1#32
  let arg13 : BitVec 32 := Scf.iv v1138 c1_i32_1197 k1_t113
  let v1840 : Index := Scalar.indexCast arg13
  let c48_1210 : Index := 48#32
  ![v1840.toNat, 48]
@[reducible] def k1_t114_loop (i : grid1.Coords) (v530 : BitVec 32) (v535 : BitVec 32) : Scf.Loop 32 :=
  let c256_i32_678 : BitVec 32 := 256#32
  let c0_i32_677 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let c256_i32_681 : BitVec 32 := 256#32
  let c0_i32_680 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c256_i32_679 : BitVec 32 := 256#32
  let v1139 : BitVec 32 := Scalar.subi v538 c256_i32_679
  let v1140 : BitVec 32 := Scalar.maxsi c0_i32_680 v1139
  let v1141 : BitVec 32 := Scalar.minsi c256_i32_681 v1140
  let v1805 : BitVec 32 := Scalar.subi v1141 v1138
  let c1_i32_1196 : BitVec 32 := 1#32
  let v1807 : BitVec 32 := Scalar.divsi v1805 c1_i32_1196
  let v1808 : BitVec 32 := Scalar.muli v1807 c1_i32_1196
  let v1809 : BitVec 32 := Scalar.addi v1138 v1808
  let v1806 : BitVec 32 := Scalar.addi v1138 v1805
  let c1_i32_1198 : BitVec 32 := 1#32
  ⟨v1809, v1806, c1_i32_1198⟩
def k1_off455 (i : grid1.Coords) (v530 : BitVec 32) (v535 : BitVec 32) (k1_t114 : Fin (k1_t114_loop i v530 v535).trips) : Fin 2 → Nat :=
  let c256_i32_678 : BitVec 32 := 256#32
  let c0_i32_677 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let c256_i32_681 : BitVec 32 := 256#32
  let c0_i32_680 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c256_i32_679 : BitVec 32 := 256#32
  let v1139 : BitVec 32 := Scalar.subi v538 c256_i32_679
  let v1140 : BitVec 32 := Scalar.maxsi c0_i32_680 v1139
  let v1141 : BitVec 32 := Scalar.minsi c256_i32_681 v1140
  let v1805 : BitVec 32 := Scalar.subi v1141 v1138
  let c1_i32_1196 : BitVec 32 := 1#32
  let v1807 : BitVec 32 := Scalar.divsi v1805 c1_i32_1196
  let v1808 : BitVec 32 := Scalar.muli v1807 c1_i32_1196
  let v1809 : BitVec 32 := Scalar.addi v1138 v1808
  let c1_i32_1198 : BitVec 32 := 1#32
  let arg13 : BitVec 32 := Scf.iv v1809 c1_i32_1198 k1_t114
  let v1828 : Index := Scalar.indexCast arg13
  let c0_1207 : Index := 0#32
  ![v1828.toNat, 0]
def k1_off456 (i : grid1.Coords) (v530 : BitVec 32) (v535 : BitVec 32) (k1_t114 : Fin (k1_t114_loop i v530 v535).trips) : Fin 2 → Nat :=
  let c256_i32_678 : BitVec 32 := 256#32
  let c0_i32_677 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let c256_i32_681 : BitVec 32 := 256#32
  let c0_i32_680 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c256_i32_679 : BitVec 32 := 256#32
  let v1139 : BitVec 32 := Scalar.subi v538 c256_i32_679
  let v1140 : BitVec 32 := Scalar.maxsi c0_i32_680 v1139
  let v1141 : BitVec 32 := Scalar.minsi c256_i32_681 v1140
  let v1805 : BitVec 32 := Scalar.subi v1141 v1138
  let c1_i32_1196 : BitVec 32 := 1#32
  let v1807 : BitVec 32 := Scalar.divsi v1805 c1_i32_1196
  let v1808 : BitVec 32 := Scalar.muli v1807 c1_i32_1196
  let v1809 : BitVec 32 := Scalar.addi v1138 v1808
  let c1_i32_1198 : BitVec 32 := 1#32
  let arg13 : BitVec 32 := Scf.iv v1809 c1_i32_1198 k1_t114
  let v1832 : Index := Scalar.indexCast arg13
  let c16_1208 : Index := 16#32
  ![v1832.toNat, 16]
def k1_off457 (i : grid1.Coords) (v530 : BitVec 32) (v535 : BitVec 32) (k1_t114 : Fin (k1_t114_loop i v530 v535).trips) : Fin 2 → Nat :=
  let c256_i32_678 : BitVec 32 := 256#32
  let c0_i32_677 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let c256_i32_681 : BitVec 32 := 256#32
  let c0_i32_680 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c256_i32_679 : BitVec 32 := 256#32
  let v1139 : BitVec 32 := Scalar.subi v538 c256_i32_679
  let v1140 : BitVec 32 := Scalar.maxsi c0_i32_680 v1139
  let v1141 : BitVec 32 := Scalar.minsi c256_i32_681 v1140
  let v1805 : BitVec 32 := Scalar.subi v1141 v1138
  let c1_i32_1196 : BitVec 32 := 1#32
  let v1807 : BitVec 32 := Scalar.divsi v1805 c1_i32_1196
  let v1808 : BitVec 32 := Scalar.muli v1807 c1_i32_1196
  let v1809 : BitVec 32 := Scalar.addi v1138 v1808
  let c1_i32_1198 : BitVec 32 := 1#32
  let arg13 : BitVec 32 := Scf.iv v1809 c1_i32_1198 k1_t114
  let v1836 : Index := Scalar.indexCast arg13
  let c32_1209 : Index := 32#32
  ![v1836.toNat, 32]
def k1_off458 (i : grid1.Coords) (v530 : BitVec 32) (v535 : BitVec 32) (k1_t114 : Fin (k1_t114_loop i v530 v535).trips) : Fin 2 → Nat :=
  let c256_i32_678 : BitVec 32 := 256#32
  let c0_i32_677 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c256_i32_676 : BitVec 32 := 256#32
  let v1136 : BitVec 32 := Scalar.subi v533 c256_i32_676
  let v1137 : BitVec 32 := Scalar.maxsi c0_i32_677 v1136
  let v1138 : BitVec 32 := Scalar.minsi c256_i32_678 v1137
  let c256_i32_681 : BitVec 32 := 256#32
  let c0_i32_680 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c256_i32_679 : BitVec 32 := 256#32
  let v1139 : BitVec 32 := Scalar.subi v538 c256_i32_679
  let v1140 : BitVec 32 := Scalar.maxsi c0_i32_680 v1139
  let v1141 : BitVec 32 := Scalar.minsi c256_i32_681 v1140
  let v1805 : BitVec 32 := Scalar.subi v1141 v1138
  let c1_i32_1196 : BitVec 32 := 1#32
  let v1807 : BitVec 32 := Scalar.divsi v1805 c1_i32_1196
  let v1808 : BitVec 32 := Scalar.muli v1807 c1_i32_1196
  let v1809 : BitVec 32 := Scalar.addi v1138 v1808
  let c1_i32_1198 : BitVec 32 := 1#32
  let arg13 : BitVec 32 := Scf.iv v1809 c1_i32_1198 k1_t114
  let v1840 : Index := Scalar.indexCast arg13
  let c48_1210 : Index := 48#32
  ![v1840.toNat, 48]
@[reducible] def k1_t115_loop (i : grid1.Coords) (v540 : BitVec 32) (v546 : BitVec 32) : Scf.Loop 32 :=
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let c256_i32_688 : BitVec 32 := 256#32
  let c0_i32_687 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c256_i32_686 : BitVec 32 := 256#32
  let v1148 : BitVec 32 := Scalar.subi v550 c256_i32_686
  let v1149 : BitVec 32 := Scalar.maxsi c0_i32_687 v1148
  let v1150 : BitVec 32 := Scalar.minsi c256_i32_688 v1149
  let v1805 : BitVec 32 := Scalar.subi v1150 v1147
  let c1_i32_1196 : BitVec 32 := 1#32
  let v1807 : BitVec 32 := Scalar.divsi v1805 c1_i32_1196
  let v1808 : BitVec 32 := Scalar.muli v1807 c1_i32_1196
  let v1809 : BitVec 32 := Scalar.addi v1147 v1808
  let c1_i32_1197 : BitVec 32 := 1#32
  ⟨v1147, v1809, c1_i32_1197⟩
def k1_cond58 (i : grid1.Coords) (v540 : BitVec 32) (v546 : BitVec 32) : BitVec 1 :=
  let c256_i32_688 : BitVec 32 := 256#32
  let c0_i32_687 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v548 : BitVec 32 := Scalar.subi v547 v3
  let v549 : BitVec 32 := Scalar.maxsi c0_i32_239 v548
  let v550 : BitVec 32 := Scalar.minsi c1024_i32_240 v549
  let c256_i32_686 : BitVec 32 := 256#32
  let v1148 : BitVec 32 := Scalar.subi v550 c256_i32_686
  let v1149 : BitVec 32 := Scalar.maxsi c0_i32_687 v1148
  let v1150 : BitVec 32 := Scalar.minsi c256_i32_688 v1149
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let v1151 : BitVec 1 := Scalar.cmpi .sgt v1150 v1147
  let v1152 : BitVec 32 := Scalar.extui v1151
  let c0_i32_689 : BitVec 32 := 0#32
  let v1153 : BitVec 1 := Scalar.cmpi .ne v1152 c0_i32_689
  v1153

def k1_off459 (i : grid1.Coords) (v540 : BitVec 32) (v546 : BitVec 32) (k1_t115 : Fin (k1_t115_loop i v540 v546).trips) : Fin 2 → Nat :=
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let c1_i32_1197 : BitVec 32 := 1#32
  let arg13 : BitVec 32 := Scf.iv v1147 c1_i32_1197 k1_t115
  let v1828 : Index := Scalar.indexCast arg13
  let c64 : Index := 64#32
  ![v1828.toNat, 64]
def k1_off460 (i : grid1.Coords) (v540 : BitVec 32) (v546 : BitVec 32) (k1_t115 : Fin (k1_t115_loop i v540 v546).trips) : Fin 2 → Nat :=
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let c1_i32_1197 : BitVec 32 := 1#32
  let arg13 : BitVec 32 := Scf.iv v1147 c1_i32_1197 k1_t115
  let v1832 : Index := Scalar.indexCast arg13
  let c80 : Index := 80#32
  ![v1832.toNat, 80]
def k1_off461 (i : grid1.Coords) (v540 : BitVec 32) (v546 : BitVec 32) (k1_t115 : Fin (k1_t115_loop i v540 v546).trips) : Fin 2 → Nat :=
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let c1_i32_1197 : BitVec 32 := 1#32
  let arg13 : BitVec 32 := Scf.iv v1147 c1_i32_1197 k1_t115
  let v1836 : Index := Scalar.indexCast arg13
  let c96 : Index := 96#32
  ![v1836.toNat, 96]
def k1_off462 (i : grid1.Coords) (v540 : BitVec 32) (v546 : BitVec 32) (k1_t115 : Fin (k1_t115_loop i v540 v546).trips) : Fin 2 → Nat :=
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let c1_i32_1197 : BitVec 32 := 1#32
  let arg13 : BitVec 32 := Scf.iv v1147 c1_i32_1197 k1_t115
  let v1840 : Index := Scalar.indexCast arg13
  let c112 : Index := 112#32
  ![v1840.toNat, 112]
@[reducible] def k1_t116_loop (i : grid1.Coords) (v540 : BitVec 32) (v546 : BitVec 32) : Scf.Loop 32 :=
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let c256_i32_688 : BitVec 32 := 256#32
  let c0_i32_687 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c256_i32_686 : BitVec 32 := 256#32
  let v1148 : BitVec 32 := Scalar.subi v550 c256_i32_686
  let v1149 : BitVec 32 := Scalar.maxsi c0_i32_687 v1148
  let v1150 : BitVec 32 := Scalar.minsi c256_i32_688 v1149
  let v1805 : BitVec 32 := Scalar.subi v1150 v1147
  let c1_i32_1196 : BitVec 32 := 1#32
  let v1807 : BitVec 32 := Scalar.divsi v1805 c1_i32_1196
  let v1808 : BitVec 32 := Scalar.muli v1807 c1_i32_1196
  let v1809 : BitVec 32 := Scalar.addi v1147 v1808
  let v1806 : BitVec 32 := Scalar.addi v1147 v1805
  let c1_i32_1198 : BitVec 32 := 1#32
  ⟨v1809, v1806, c1_i32_1198⟩
def k1_off463 (i : grid1.Coords) (v540 : BitVec 32) (v546 : BitVec 32) (k1_t116 : Fin (k1_t116_loop i v540 v546).trips) : Fin 2 → Nat :=
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let c256_i32_688 : BitVec 32 := 256#32
  let c0_i32_687 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c256_i32_686 : BitVec 32 := 256#32
  let v1148 : BitVec 32 := Scalar.subi v550 c256_i32_686
  let v1149 : BitVec 32 := Scalar.maxsi c0_i32_687 v1148
  let v1150 : BitVec 32 := Scalar.minsi c256_i32_688 v1149
  let v1805 : BitVec 32 := Scalar.subi v1150 v1147
  let c1_i32_1196 : BitVec 32 := 1#32
  let v1807 : BitVec 32 := Scalar.divsi v1805 c1_i32_1196
  let v1808 : BitVec 32 := Scalar.muli v1807 c1_i32_1196
  let v1809 : BitVec 32 := Scalar.addi v1147 v1808
  let c1_i32_1198 : BitVec 32 := 1#32
  let arg13 : BitVec 32 := Scf.iv v1809 c1_i32_1198 k1_t116
  let v1828 : Index := Scalar.indexCast arg13
  let c64 : Index := 64#32
  ![v1828.toNat, 64]
def k1_off464 (i : grid1.Coords) (v540 : BitVec 32) (v546 : BitVec 32) (k1_t116 : Fin (k1_t116_loop i v540 v546).trips) : Fin 2 → Nat :=
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let c256_i32_688 : BitVec 32 := 256#32
  let c0_i32_687 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c256_i32_686 : BitVec 32 := 256#32
  let v1148 : BitVec 32 := Scalar.subi v550 c256_i32_686
  let v1149 : BitVec 32 := Scalar.maxsi c0_i32_687 v1148
  let v1150 : BitVec 32 := Scalar.minsi c256_i32_688 v1149
  let v1805 : BitVec 32 := Scalar.subi v1150 v1147
  let c1_i32_1196 : BitVec 32 := 1#32
  let v1807 : BitVec 32 := Scalar.divsi v1805 c1_i32_1196
  let v1808 : BitVec 32 := Scalar.muli v1807 c1_i32_1196
  let v1809 : BitVec 32 := Scalar.addi v1147 v1808
  let c1_i32_1198 : BitVec 32 := 1#32
  let arg13 : BitVec 32 := Scf.iv v1809 c1_i32_1198 k1_t116
  let v1832 : Index := Scalar.indexCast arg13
  let c80 : Index := 80#32
  ![v1832.toNat, 80]
def k1_off465 (i : grid1.Coords) (v540 : BitVec 32) (v546 : BitVec 32) (k1_t116 : Fin (k1_t116_loop i v540 v546).trips) : Fin 2 → Nat :=
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let c256_i32_688 : BitVec 32 := 256#32
  let c0_i32_687 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c256_i32_686 : BitVec 32 := 256#32
  let v1148 : BitVec 32 := Scalar.subi v550 c256_i32_686
  let v1149 : BitVec 32 := Scalar.maxsi c0_i32_687 v1148
  let v1150 : BitVec 32 := Scalar.minsi c256_i32_688 v1149
  let v1805 : BitVec 32 := Scalar.subi v1150 v1147
  let c1_i32_1196 : BitVec 32 := 1#32
  let v1807 : BitVec 32 := Scalar.divsi v1805 c1_i32_1196
  let v1808 : BitVec 32 := Scalar.muli v1807 c1_i32_1196
  let v1809 : BitVec 32 := Scalar.addi v1147 v1808
  let c1_i32_1198 : BitVec 32 := 1#32
  let arg13 : BitVec 32 := Scf.iv v1809 c1_i32_1198 k1_t116
  let v1836 : Index := Scalar.indexCast arg13
  let c96 : Index := 96#32
  ![v1836.toNat, 96]
def k1_off466 (i : grid1.Coords) (v540 : BitVec 32) (v546 : BitVec 32) (k1_t116 : Fin (k1_t116_loop i v540 v546).trips) : Fin 2 → Nat :=
  let c256_i32_685 : BitVec 32 := 256#32
  let c0_i32_684 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c256_i32_683 : BitVec 32 := 256#32
  let v1145 : BitVec 32 := Scalar.subi v544 c256_i32_683
  let v1146 : BitVec 32 := Scalar.maxsi c0_i32_684 v1145
  let v1147 : BitVec 32 := Scalar.minsi c256_i32_685 v1146
  let c256_i32_688 : BitVec 32 := 256#32
  let c0_i32_687 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c256_i32_686 : BitVec 32 := 256#32
  let v1148 : BitVec 32 := Scalar.subi v550 c256_i32_686
  let v1149 : BitVec 32 := Scalar.maxsi c0_i32_687 v1148
  let v1150 : BitVec 32 := Scalar.minsi c256_i32_688 v1149
  let v1805 : BitVec 32 := Scalar.subi v1150 v1147
  let c1_i32_1196 : BitVec 32 := 1#32
  let v1807 : BitVec 32 := Scalar.divsi v1805 c1_i32_1196
  let v1808 : BitVec 32 := Scalar.muli v1807 c1_i32_1196
  let v1809 : BitVec 32 := Scalar.addi v1147 v1808
  let c1_i32_1198 : BitVec 32 := 1#32
  let arg13 : BitVec 32 := Scf.iv v1809 c1_i32_1198 k1_t116
  let v1840 : Index := Scalar.indexCast arg13
  let c112 : Index := 112#32
  ![v1840.toNat, 112]
@[reducible] def k1_t117_loop (i : grid1.Coords) (v552 : BitVec 32) (v557 : BitVec 32) : Scf.Loop 32 :=
  let c256_i32_692 : BitVec 32 := 256#32
  let c0_i32_691 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let c256_i32_695 : BitVec 32 := 256#32
  let c0_i32_694 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c256_i32_693 : BitVec 32 := 256#32
  let v1157 : BitVec 32 := Scalar.subi v560 c256_i32_693
  let v1158 : BitVec 32 := Scalar.maxsi c0_i32_694 v1157
  let v1159 : BitVec 32 := Scalar.minsi c256_i32_695 v1158
  let v1805 : BitVec 32 := Scalar.subi v1159 v1156
  let c1_i32_1196 : BitVec 32 := 1#32
  let v1807 : BitVec 32 := Scalar.divsi v1805 c1_i32_1196
  let v1808 : BitVec 32 := Scalar.muli v1807 c1_i32_1196
  let v1809 : BitVec 32 := Scalar.addi v1156 v1808
  let c1_i32_1197 : BitVec 32 := 1#32
  ⟨v1156, v1809, c1_i32_1197⟩
def k1_cond59 (i : grid1.Coords) (v552 : BitVec 32) (v557 : BitVec 32) : BitVec 1 :=
  let c256_i32_695 : BitVec 32 := 256#32
  let c0_i32_694 : BitVec 32 := 0#32
  let c1024_i32_244 : BitVec 32 := 1024#32
  let c0_i32_243 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v558 : BitVec 32 := Scalar.subi v557 v3
  let v559 : BitVec 32 := Scalar.maxsi c0_i32_243 v558
  let v560 : BitVec 32 := Scalar.minsi c1024_i32_244 v559
  let c256_i32_693 : BitVec 32 := 256#32
  let v1157 : BitVec 32 := Scalar.subi v560 c256_i32_693
  let v1158 : BitVec 32 := Scalar.maxsi c0_i32_694 v1157
  let v1159 : BitVec 32 := Scalar.minsi c256_i32_695 v1158
  let c256_i32_692 : BitVec 32 := 256#32
  let c0_i32_691 : BitVec 32 := 0#32
  let c1024_i32_242 : BitVec 32 := 1024#32
  let c0_i32_241 : BitVec 32 := 0#32
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let v1160 : BitVec 1 := Scalar.cmpi .sgt v1159 v1156
  let v1161 : BitVec 32 := Scalar.extui v1160
  let c0_i32_696 : BitVec 32 := 0#32
  let v1162 : BitVec 1 := Scalar.cmpi .ne v1161 c0_i32_696
  v1162

def k1_off467 (i : grid1.Coords) (v552 : BitVec 32) (v557 : BitVec 32) (k1_t117 : Fin (k1_t117_loop i v552 v557).trips) : Fin 2 → Nat :=
  let c256_i32_692 : BitVec 32 := 256#32
  let c0_i32_691 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let c1_i32_1197 : BitVec 32 := 1#32
  let arg13 : BitVec 32 := Scf.iv v1156 c1_i32_1197 k1_t117
  let v1828 : Index := Scalar.indexCast arg13
  let c0_1207 : Index := 0#32
  ![v1828.toNat, 0]
def k1_off468 (i : grid1.Coords) (v552 : BitVec 32) (v557 : BitVec 32) (k1_t117 : Fin (k1_t117_loop i v552 v557).trips) : Fin 2 → Nat :=
  let c256_i32_692 : BitVec 32 := 256#32
  let c0_i32_691 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let c1_i32_1197 : BitVec 32 := 1#32
  let arg13 : BitVec 32 := Scf.iv v1156 c1_i32_1197 k1_t117
  let v1832 : Index := Scalar.indexCast arg13
  let c16_1208 : Index := 16#32
  ![v1832.toNat, 16]
def k1_off469 (i : grid1.Coords) (v552 : BitVec 32) (v557 : BitVec 32) (k1_t117 : Fin (k1_t117_loop i v552 v557).trips) : Fin 2 → Nat :=
  let c256_i32_692 : BitVec 32 := 256#32
  let c0_i32_691 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let c1_i32_1197 : BitVec 32 := 1#32
  let arg13 : BitVec 32 := Scf.iv v1156 c1_i32_1197 k1_t117
  let v1836 : Index := Scalar.indexCast arg13
  let c32_1209 : Index := 32#32
  ![v1836.toNat, 32]
def k1_off470 (i : grid1.Coords) (v552 : BitVec 32) (v557 : BitVec 32) (k1_t117 : Fin (k1_t117_loop i v552 v557).trips) : Fin 2 → Nat :=
  let c256_i32_692 : BitVec 32 := 256#32
  let c0_i32_691 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let c1_i32_1197 : BitVec 32 := 1#32
  let arg13 : BitVec 32 := Scf.iv v1156 c1_i32_1197 k1_t117
  let v1840 : Index := Scalar.indexCast arg13
  let c48_1210 : Index := 48#32
  ![v1840.toNat, 48]
@[reducible] def k1_t118_loop (i : grid1.Coords) (v552 : BitVec 32) (v557 : BitVec 32) : Scf.Loop 32 :=
  let c256_i32_692 : BitVec 32 := 256#32
  let c0_i32_691 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let c256_i32_695 : BitVec 32 := 256#32
  let c0_i32_694 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c256_i32_693 : BitVec 32 := 256#32
  let v1157 : BitVec 32 := Scalar.subi v560 c256_i32_693
  let v1158 : BitVec 32 := Scalar.maxsi c0_i32_694 v1157
  let v1159 : BitVec 32 := Scalar.minsi c256_i32_695 v1158
  let v1805 : BitVec 32 := Scalar.subi v1159 v1156
  let c1_i32_1196 : BitVec 32 := 1#32
  let v1807 : BitVec 32 := Scalar.divsi v1805 c1_i32_1196
  let v1808 : BitVec 32 := Scalar.muli v1807 c1_i32_1196
  let v1809 : BitVec 32 := Scalar.addi v1156 v1808
  let v1806 : BitVec 32 := Scalar.addi v1156 v1805
  let c1_i32_1198 : BitVec 32 := 1#32
  ⟨v1809, v1806, c1_i32_1198⟩
def k1_off471 (i : grid1.Coords) (v552 : BitVec 32) (v557 : BitVec 32) (k1_t118 : Fin (k1_t118_loop i v552 v557).trips) : Fin 2 → Nat :=
  let c256_i32_692 : BitVec 32 := 256#32
  let c0_i32_691 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let c256_i32_695 : BitVec 32 := 256#32
  let c0_i32_694 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c256_i32_693 : BitVec 32 := 256#32
  let v1157 : BitVec 32 := Scalar.subi v560 c256_i32_693
  let v1158 : BitVec 32 := Scalar.maxsi c0_i32_694 v1157
  let v1159 : BitVec 32 := Scalar.minsi c256_i32_695 v1158
  let v1805 : BitVec 32 := Scalar.subi v1159 v1156
  let c1_i32_1196 : BitVec 32 := 1#32
  let v1807 : BitVec 32 := Scalar.divsi v1805 c1_i32_1196
  let v1808 : BitVec 32 := Scalar.muli v1807 c1_i32_1196
  let v1809 : BitVec 32 := Scalar.addi v1156 v1808
  let c1_i32_1198 : BitVec 32 := 1#32
  let arg13 : BitVec 32 := Scf.iv v1809 c1_i32_1198 k1_t118
  let v1828 : Index := Scalar.indexCast arg13
  let c0_1207 : Index := 0#32
  ![v1828.toNat, 0]
def k1_off472 (i : grid1.Coords) (v552 : BitVec 32) (v557 : BitVec 32) (k1_t118 : Fin (k1_t118_loop i v552 v557).trips) : Fin 2 → Nat :=
  let c256_i32_692 : BitVec 32 := 256#32
  let c0_i32_691 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let c256_i32_695 : BitVec 32 := 256#32
  let c0_i32_694 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c256_i32_693 : BitVec 32 := 256#32
  let v1157 : BitVec 32 := Scalar.subi v560 c256_i32_693
  let v1158 : BitVec 32 := Scalar.maxsi c0_i32_694 v1157
  let v1159 : BitVec 32 := Scalar.minsi c256_i32_695 v1158
  let v1805 : BitVec 32 := Scalar.subi v1159 v1156
  let c1_i32_1196 : BitVec 32 := 1#32
  let v1807 : BitVec 32 := Scalar.divsi v1805 c1_i32_1196
  let v1808 : BitVec 32 := Scalar.muli v1807 c1_i32_1196
  let v1809 : BitVec 32 := Scalar.addi v1156 v1808
  let c1_i32_1198 : BitVec 32 := 1#32
  let arg13 : BitVec 32 := Scf.iv v1809 c1_i32_1198 k1_t118
  let v1832 : Index := Scalar.indexCast arg13
  let c16_1208 : Index := 16#32
  ![v1832.toNat, 16]
def k1_off473 (i : grid1.Coords) (v552 : BitVec 32) (v557 : BitVec 32) (k1_t118 : Fin (k1_t118_loop i v552 v557).trips) : Fin 2 → Nat :=
  let c256_i32_692 : BitVec 32 := 256#32
  let c0_i32_691 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let c256_i32_695 : BitVec 32 := 256#32
  let c0_i32_694 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c256_i32_693 : BitVec 32 := 256#32
  let v1157 : BitVec 32 := Scalar.subi v560 c256_i32_693
  let v1158 : BitVec 32 := Scalar.maxsi c0_i32_694 v1157
  let v1159 : BitVec 32 := Scalar.minsi c256_i32_695 v1158
  let v1805 : BitVec 32 := Scalar.subi v1159 v1156
  let c1_i32_1196 : BitVec 32 := 1#32
  let v1807 : BitVec 32 := Scalar.divsi v1805 c1_i32_1196
  let v1808 : BitVec 32 := Scalar.muli v1807 c1_i32_1196
  let v1809 : BitVec 32 := Scalar.addi v1156 v1808
  let c1_i32_1198 : BitVec 32 := 1#32
  let arg13 : BitVec 32 := Scf.iv v1809 c1_i32_1198 k1_t118
  let v1836 : Index := Scalar.indexCast arg13
  let c32_1209 : Index := 32#32
  ![v1836.toNat, 32]
def k1_off474 (i : grid1.Coords) (v552 : BitVec 32) (v557 : BitVec 32) (k1_t118 : Fin (k1_t118_loop i v552 v557).trips) : Fin 2 → Nat :=
  let c256_i32_692 : BitVec 32 := 256#32
  let c0_i32_691 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c256_i32_690 : BitVec 32 := 256#32
  let v1154 : BitVec 32 := Scalar.subi v555 c256_i32_690
  let v1155 : BitVec 32 := Scalar.maxsi c0_i32_691 v1154
  let v1156 : BitVec 32 := Scalar.minsi c256_i32_692 v1155
  let c256_i32_695 : BitVec 32 := 256#32
  let c0_i32_694 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c256_i32_693 : BitVec 32 := 256#32
  let v1157 : BitVec 32 := Scalar.subi v560 c256_i32_693
  let v1158 : BitVec 32 := Scalar.maxsi c0_i32_694 v1157
  let v1159 : BitVec 32 := Scalar.minsi c256_i32_695 v1158
  let v1805 : BitVec 32 := Scalar.subi v1159 v1156
  let c1_i32_1196 : BitVec 32 := 1#32
  let v1807 : BitVec 32 := Scalar.divsi v1805 c1_i32_1196
  let v1808 : BitVec 32 := Scalar.muli v1807 c1_i32_1196
  let v1809 : BitVec 32 := Scalar.addi v1156 v1808
  let c1_i32_1198 : BitVec 32 := 1#32
  let arg13 : BitVec 32 := Scf.iv v1809 c1_i32_1198 k1_t118
  let v1840 : Index := Scalar.indexCast arg13
  let c48_1210 : Index := 48#32
  ![v1840.toNat, 48]
@[reducible] def k1_t119_loop (i : grid1.Coords) (v562 : BitVec 32) (v568 : BitVec 32) : Scf.Loop 32 :=
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let c256_i32_702 : BitVec 32 := 256#32
  let c0_i32_701 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c256_i32_700 : BitVec 32 := 256#32
  let v1166 : BitVec 32 := Scalar.subi v572 c256_i32_700
  let v1167 : BitVec 32 := Scalar.maxsi c0_i32_701 v1166
  let v1168 : BitVec 32 := Scalar.minsi c256_i32_702 v1167
  let v1805 : BitVec 32 := Scalar.subi v1168 v1165
  let c1_i32_1196 : BitVec 32 := 1#32
  let v1807 : BitVec 32 := Scalar.divsi v1805 c1_i32_1196
  let v1808 : BitVec 32 := Scalar.muli v1807 c1_i32_1196
  let v1809 : BitVec 32 := Scalar.addi v1165 v1808
  let c1_i32_1197 : BitVec 32 := 1#32
  ⟨v1165, v1809, c1_i32_1197⟩
def k1_cond60 (i : grid1.Coords) (v562 : BitVec 32) (v568 : BitVec 32) : BitVec 1 :=
  let c256_i32_702 : BitVec 32 := 256#32
  let c0_i32_701 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v570 : BitVec 32 := Scalar.subi v569 v3
  let v571 : BitVec 32 := Scalar.maxsi c0_i32_249 v570
  let v572 : BitVec 32 := Scalar.minsi c1024_i32_250 v571
  let c256_i32_700 : BitVec 32 := 256#32
  let v1166 : BitVec 32 := Scalar.subi v572 c256_i32_700
  let v1167 : BitVec 32 := Scalar.maxsi c0_i32_701 v1166
  let v1168 : BitVec 32 := Scalar.minsi c256_i32_702 v1167
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let v1169 : BitVec 1 := Scalar.cmpi .sgt v1168 v1165
  let v1170 : BitVec 32 := Scalar.extui v1169
  let c0_i32_703 : BitVec 32 := 0#32
  let v1171 : BitVec 1 := Scalar.cmpi .ne v1170 c0_i32_703
  v1171

def k1_off475 (i : grid1.Coords) (v562 : BitVec 32) (v568 : BitVec 32) (k1_t119 : Fin (k1_t119_loop i v562 v568).trips) : Fin 2 → Nat :=
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let c1_i32_1197 : BitVec 32 := 1#32
  let arg13 : BitVec 32 := Scf.iv v1165 c1_i32_1197 k1_t119
  let v1828 : Index := Scalar.indexCast arg13
  let c64 : Index := 64#32
  ![v1828.toNat, 64]
def k1_off476 (i : grid1.Coords) (v562 : BitVec 32) (v568 : BitVec 32) (k1_t119 : Fin (k1_t119_loop i v562 v568).trips) : Fin 2 → Nat :=
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let c1_i32_1197 : BitVec 32 := 1#32
  let arg13 : BitVec 32 := Scf.iv v1165 c1_i32_1197 k1_t119
  let v1832 : Index := Scalar.indexCast arg13
  let c80 : Index := 80#32
  ![v1832.toNat, 80]
def k1_off477 (i : grid1.Coords) (v562 : BitVec 32) (v568 : BitVec 32) (k1_t119 : Fin (k1_t119_loop i v562 v568).trips) : Fin 2 → Nat :=
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let c1_i32_1197 : BitVec 32 := 1#32
  let arg13 : BitVec 32 := Scf.iv v1165 c1_i32_1197 k1_t119
  let v1836 : Index := Scalar.indexCast arg13
  let c96 : Index := 96#32
  ![v1836.toNat, 96]
def k1_off478 (i : grid1.Coords) (v562 : BitVec 32) (v568 : BitVec 32) (k1_t119 : Fin (k1_t119_loop i v562 v568).trips) : Fin 2 → Nat :=
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let c1_i32_1197 : BitVec 32 := 1#32
  let arg13 : BitVec 32 := Scf.iv v1165 c1_i32_1197 k1_t119
  let v1840 : Index := Scalar.indexCast arg13
  let c112 : Index := 112#32
  ![v1840.toNat, 112]
@[reducible] def k1_t120_loop (i : grid1.Coords) (v562 : BitVec 32) (v568 : BitVec 32) : Scf.Loop 32 :=
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let c256_i32_702 : BitVec 32 := 256#32
  let c0_i32_701 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c256_i32_700 : BitVec 32 := 256#32
  let v1166 : BitVec 32 := Scalar.subi v572 c256_i32_700
  let v1167 : BitVec 32 := Scalar.maxsi c0_i32_701 v1166
  let v1168 : BitVec 32 := Scalar.minsi c256_i32_702 v1167
  let v1805 : BitVec 32 := Scalar.subi v1168 v1165
  let c1_i32_1196 : BitVec 32 := 1#32
  let v1807 : BitVec 32 := Scalar.divsi v1805 c1_i32_1196
  let v1808 : BitVec 32 := Scalar.muli v1807 c1_i32_1196
  let v1809 : BitVec 32 := Scalar.addi v1165 v1808
  let v1806 : BitVec 32 := Scalar.addi v1165 v1805
  let c1_i32_1198 : BitVec 32 := 1#32
  ⟨v1809, v1806, c1_i32_1198⟩
def k1_off479 (i : grid1.Coords) (v562 : BitVec 32) (v568 : BitVec 32) (k1_t120 : Fin (k1_t120_loop i v562 v568).trips) : Fin 2 → Nat :=
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let c256_i32_702 : BitVec 32 := 256#32
  let c0_i32_701 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c256_i32_700 : BitVec 32 := 256#32
  let v1166 : BitVec 32 := Scalar.subi v572 c256_i32_700
  let v1167 : BitVec 32 := Scalar.maxsi c0_i32_701 v1166
  let v1168 : BitVec 32 := Scalar.minsi c256_i32_702 v1167
  let v1805 : BitVec 32 := Scalar.subi v1168 v1165
  let c1_i32_1196 : BitVec 32 := 1#32
  let v1807 : BitVec 32 := Scalar.divsi v1805 c1_i32_1196
  let v1808 : BitVec 32 := Scalar.muli v1807 c1_i32_1196
  let v1809 : BitVec 32 := Scalar.addi v1165 v1808
  let c1_i32_1198 : BitVec 32 := 1#32
  let arg13 : BitVec 32 := Scf.iv v1809 c1_i32_1198 k1_t120
  let v1828 : Index := Scalar.indexCast arg13
  let c64 : Index := 64#32
  ![v1828.toNat, 64]
def k1_off480 (i : grid1.Coords) (v562 : BitVec 32) (v568 : BitVec 32) (k1_t120 : Fin (k1_t120_loop i v562 v568).trips) : Fin 2 → Nat :=
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let c256_i32_702 : BitVec 32 := 256#32
  let c0_i32_701 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c256_i32_700 : BitVec 32 := 256#32
  let v1166 : BitVec 32 := Scalar.subi v572 c256_i32_700
  let v1167 : BitVec 32 := Scalar.maxsi c0_i32_701 v1166
  let v1168 : BitVec 32 := Scalar.minsi c256_i32_702 v1167
  let v1805 : BitVec 32 := Scalar.subi v1168 v1165
  let c1_i32_1196 : BitVec 32 := 1#32
  let v1807 : BitVec 32 := Scalar.divsi v1805 c1_i32_1196
  let v1808 : BitVec 32 := Scalar.muli v1807 c1_i32_1196
  let v1809 : BitVec 32 := Scalar.addi v1165 v1808
  let c1_i32_1198 : BitVec 32 := 1#32
  let arg13 : BitVec 32 := Scf.iv v1809 c1_i32_1198 k1_t120
  let v1832 : Index := Scalar.indexCast arg13
  let c80 : Index := 80#32
  ![v1832.toNat, 80]
def k1_off481 (i : grid1.Coords) (v562 : BitVec 32) (v568 : BitVec 32) (k1_t120 : Fin (k1_t120_loop i v562 v568).trips) : Fin 2 → Nat :=
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let c256_i32_702 : BitVec 32 := 256#32
  let c0_i32_701 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c256_i32_700 : BitVec 32 := 256#32
  let v1166 : BitVec 32 := Scalar.subi v572 c256_i32_700
  let v1167 : BitVec 32 := Scalar.maxsi c0_i32_701 v1166
  let v1168 : BitVec 32 := Scalar.minsi c256_i32_702 v1167
  let v1805 : BitVec 32 := Scalar.subi v1168 v1165
  let c1_i32_1196 : BitVec 32 := 1#32
  let v1807 : BitVec 32 := Scalar.divsi v1805 c1_i32_1196
  let v1808 : BitVec 32 := Scalar.muli v1807 c1_i32_1196
  let v1809 : BitVec 32 := Scalar.addi v1165 v1808
  let c1_i32_1198 : BitVec 32 := 1#32
  let arg13 : BitVec 32 := Scf.iv v1809 c1_i32_1198 k1_t120
  let v1836 : Index := Scalar.indexCast arg13
  let c96 : Index := 96#32
  ![v1836.toNat, 96]
def k1_off482 (i : grid1.Coords) (v562 : BitVec 32) (v568 : BitVec 32) (k1_t120 : Fin (k1_t120_loop i v562 v568).trips) : Fin 2 → Nat :=
  let c256_i32_699 : BitVec 32 := 256#32
  let c0_i32_698 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c256_i32_697 : BitVec 32 := 256#32
  let v1163 : BitVec 32 := Scalar.subi v566 c256_i32_697
  let v1164 : BitVec 32 := Scalar.maxsi c0_i32_698 v1163
  let v1165 : BitVec 32 := Scalar.minsi c256_i32_699 v1164
  let c256_i32_702 : BitVec 32 := 256#32
  let c0_i32_701 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c256_i32_700 : BitVec 32 := 256#32
  let v1166 : BitVec 32 := Scalar.subi v572 c256_i32_700
  let v1167 : BitVec 32 := Scalar.maxsi c0_i32_701 v1166
  let v1168 : BitVec 32 := Scalar.minsi c256_i32_702 v1167
  let v1805 : BitVec 32 := Scalar.subi v1168 v1165
  let c1_i32_1196 : BitVec 32 := 1#32
  let v1807 : BitVec 32 := Scalar.divsi v1805 c1_i32_1196
  let v1808 : BitVec 32 := Scalar.muli v1807 c1_i32_1196
  let v1809 : BitVec 32 := Scalar.addi v1165 v1808
  let c1_i32_1198 : BitVec 32 := 1#32
  let arg13 : BitVec 32 := Scf.iv v1809 c1_i32_1198 k1_t120
  let v1840 : Index := Scalar.indexCast arg13
  let c112 : Index := 112#32
  ![v1840.toNat, 112]
@[reducible] def k1_t121_loop (i : grid1.Coords) (v574 : BitVec 32) (v579 : BitVec 32) : Scf.Loop 32 :=
  let c256_i32_706 : BitVec 32 := 256#32
  let c0_i32_705 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let c256_i32_709 : BitVec 32 := 256#32
  let c0_i32_708 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c256_i32_707 : BitVec 32 := 256#32
  let v1175 : BitVec 32 := Scalar.subi v582 c256_i32_707
  let v1176 : BitVec 32 := Scalar.maxsi c0_i32_708 v1175
  let v1177 : BitVec 32 := Scalar.minsi c256_i32_709 v1176
  let v1805 : BitVec 32 := Scalar.subi v1177 v1174
  let c1_i32_1196 : BitVec 32 := 1#32
  let v1807 : BitVec 32 := Scalar.divsi v1805 c1_i32_1196
  let v1808 : BitVec 32 := Scalar.muli v1807 c1_i32_1196
  let v1809 : BitVec 32 := Scalar.addi v1174 v1808
  let c1_i32_1197 : BitVec 32 := 1#32
  ⟨v1174, v1809, c1_i32_1197⟩
def k1_cond61 (i : grid1.Coords) (v574 : BitVec 32) (v579 : BitVec 32) : BitVec 1 :=
  let c256_i32_709 : BitVec 32 := 256#32
  let c0_i32_708 : BitVec 32 := 0#32
  let c1024_i32_254 : BitVec 32 := 1024#32
  let c0_i32_253 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v580 : BitVec 32 := Scalar.subi v579 v3
  let v581 : BitVec 32 := Scalar.maxsi c0_i32_253 v580
  let v582 : BitVec 32 := Scalar.minsi c1024_i32_254 v581
  let c256_i32_707 : BitVec 32 := 256#32
  let v1175 : BitVec 32 := Scalar.subi v582 c256_i32_707
  let v1176 : BitVec 32 := Scalar.maxsi c0_i32_708 v1175
  let v1177 : BitVec 32 := Scalar.minsi c256_i32_709 v1176
  let c256_i32_706 : BitVec 32 := 256#32
  let c0_i32_705 : BitVec 32 := 0#32
  let c1024_i32_252 : BitVec 32 := 1024#32
  let c0_i32_251 : BitVec 32 := 0#32
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let v1178 : BitVec 1 := Scalar.cmpi .sgt v1177 v1174
  let v1179 : BitVec 32 := Scalar.extui v1178
  let c0_i32_710 : BitVec 32 := 0#32
  let v1180 : BitVec 1 := Scalar.cmpi .ne v1179 c0_i32_710
  v1180

def k1_off483 (i : grid1.Coords) (v574 : BitVec 32) (v579 : BitVec 32) (k1_t121 : Fin (k1_t121_loop i v574 v579).trips) : Fin 2 → Nat :=
  let c256_i32_706 : BitVec 32 := 256#32
  let c0_i32_705 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let c1_i32_1197 : BitVec 32 := 1#32
  let arg13 : BitVec 32 := Scf.iv v1174 c1_i32_1197 k1_t121
  let v1828 : Index := Scalar.indexCast arg13
  let c0_1207 : Index := 0#32
  ![v1828.toNat, 0]
def k1_off484 (i : grid1.Coords) (v574 : BitVec 32) (v579 : BitVec 32) (k1_t121 : Fin (k1_t121_loop i v574 v579).trips) : Fin 2 → Nat :=
  let c256_i32_706 : BitVec 32 := 256#32
  let c0_i32_705 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let c1_i32_1197 : BitVec 32 := 1#32
  let arg13 : BitVec 32 := Scf.iv v1174 c1_i32_1197 k1_t121
  let v1832 : Index := Scalar.indexCast arg13
  let c16_1208 : Index := 16#32
  ![v1832.toNat, 16]
def k1_off485 (i : grid1.Coords) (v574 : BitVec 32) (v579 : BitVec 32) (k1_t121 : Fin (k1_t121_loop i v574 v579).trips) : Fin 2 → Nat :=
  let c256_i32_706 : BitVec 32 := 256#32
  let c0_i32_705 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let c1_i32_1197 : BitVec 32 := 1#32
  let arg13 : BitVec 32 := Scf.iv v1174 c1_i32_1197 k1_t121
  let v1836 : Index := Scalar.indexCast arg13
  let c32_1209 : Index := 32#32
  ![v1836.toNat, 32]
def k1_off486 (i : grid1.Coords) (v574 : BitVec 32) (v579 : BitVec 32) (k1_t121 : Fin (k1_t121_loop i v574 v579).trips) : Fin 2 → Nat :=
  let c256_i32_706 : BitVec 32 := 256#32
  let c0_i32_705 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let c1_i32_1197 : BitVec 32 := 1#32
  let arg13 : BitVec 32 := Scf.iv v1174 c1_i32_1197 k1_t121
  let v1840 : Index := Scalar.indexCast arg13
  let c48_1210 : Index := 48#32
  ![v1840.toNat, 48]
@[reducible] def k1_t122_loop (i : grid1.Coords) (v574 : BitVec 32) (v579 : BitVec 32) : Scf.Loop 32 :=
  let c256_i32_706 : BitVec 32 := 256#32
  let c0_i32_705 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let c256_i32_709 : BitVec 32 := 256#32
  let c0_i32_708 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c256_i32_707 : BitVec 32 := 256#32
  let v1175 : BitVec 32 := Scalar.subi v582 c256_i32_707
  let v1176 : BitVec 32 := Scalar.maxsi c0_i32_708 v1175
  let v1177 : BitVec 32 := Scalar.minsi c256_i32_709 v1176
  let v1805 : BitVec 32 := Scalar.subi v1177 v1174
  let c1_i32_1196 : BitVec 32 := 1#32
  let v1807 : BitVec 32 := Scalar.divsi v1805 c1_i32_1196
  let v1808 : BitVec 32 := Scalar.muli v1807 c1_i32_1196
  let v1809 : BitVec 32 := Scalar.addi v1174 v1808
  let v1806 : BitVec 32 := Scalar.addi v1174 v1805
  let c1_i32_1198 : BitVec 32 := 1#32
  ⟨v1809, v1806, c1_i32_1198⟩
def k1_off487 (i : grid1.Coords) (v574 : BitVec 32) (v579 : BitVec 32) (k1_t122 : Fin (k1_t122_loop i v574 v579).trips) : Fin 2 → Nat :=
  let c256_i32_706 : BitVec 32 := 256#32
  let c0_i32_705 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let c256_i32_709 : BitVec 32 := 256#32
  let c0_i32_708 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c256_i32_707 : BitVec 32 := 256#32
  let v1175 : BitVec 32 := Scalar.subi v582 c256_i32_707
  let v1176 : BitVec 32 := Scalar.maxsi c0_i32_708 v1175
  let v1177 : BitVec 32 := Scalar.minsi c256_i32_709 v1176
  let v1805 : BitVec 32 := Scalar.subi v1177 v1174
  let c1_i32_1196 : BitVec 32 := 1#32
  let v1807 : BitVec 32 := Scalar.divsi v1805 c1_i32_1196
  let v1808 : BitVec 32 := Scalar.muli v1807 c1_i32_1196
  let v1809 : BitVec 32 := Scalar.addi v1174 v1808
  let c1_i32_1198 : BitVec 32 := 1#32
  let arg13 : BitVec 32 := Scf.iv v1809 c1_i32_1198 k1_t122
  let v1828 : Index := Scalar.indexCast arg13
  let c0_1207 : Index := 0#32
  ![v1828.toNat, 0]
def k1_off488 (i : grid1.Coords) (v574 : BitVec 32) (v579 : BitVec 32) (k1_t122 : Fin (k1_t122_loop i v574 v579).trips) : Fin 2 → Nat :=
  let c256_i32_706 : BitVec 32 := 256#32
  let c0_i32_705 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let c256_i32_709 : BitVec 32 := 256#32
  let c0_i32_708 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c256_i32_707 : BitVec 32 := 256#32
  let v1175 : BitVec 32 := Scalar.subi v582 c256_i32_707
  let v1176 : BitVec 32 := Scalar.maxsi c0_i32_708 v1175
  let v1177 : BitVec 32 := Scalar.minsi c256_i32_709 v1176
  let v1805 : BitVec 32 := Scalar.subi v1177 v1174
  let c1_i32_1196 : BitVec 32 := 1#32
  let v1807 : BitVec 32 := Scalar.divsi v1805 c1_i32_1196
  let v1808 : BitVec 32 := Scalar.muli v1807 c1_i32_1196
  let v1809 : BitVec 32 := Scalar.addi v1174 v1808
  let c1_i32_1198 : BitVec 32 := 1#32
  let arg13 : BitVec 32 := Scf.iv v1809 c1_i32_1198 k1_t122
  let v1832 : Index := Scalar.indexCast arg13
  let c16_1208 : Index := 16#32
  ![v1832.toNat, 16]
def k1_off489 (i : grid1.Coords) (v574 : BitVec 32) (v579 : BitVec 32) (k1_t122 : Fin (k1_t122_loop i v574 v579).trips) : Fin 2 → Nat :=
  let c256_i32_706 : BitVec 32 := 256#32
  let c0_i32_705 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let c256_i32_709 : BitVec 32 := 256#32
  let c0_i32_708 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c256_i32_707 : BitVec 32 := 256#32
  let v1175 : BitVec 32 := Scalar.subi v582 c256_i32_707
  let v1176 : BitVec 32 := Scalar.maxsi c0_i32_708 v1175
  let v1177 : BitVec 32 := Scalar.minsi c256_i32_709 v1176
  let v1805 : BitVec 32 := Scalar.subi v1177 v1174
  let c1_i32_1196 : BitVec 32 := 1#32
  let v1807 : BitVec 32 := Scalar.divsi v1805 c1_i32_1196
  let v1808 : BitVec 32 := Scalar.muli v1807 c1_i32_1196
  let v1809 : BitVec 32 := Scalar.addi v1174 v1808
  let c1_i32_1198 : BitVec 32 := 1#32
  let arg13 : BitVec 32 := Scf.iv v1809 c1_i32_1198 k1_t122
  let v1836 : Index := Scalar.indexCast arg13
  let c32_1209 : Index := 32#32
  ![v1836.toNat, 32]
def k1_off490 (i : grid1.Coords) (v574 : BitVec 32) (v579 : BitVec 32) (k1_t122 : Fin (k1_t122_loop i v574 v579).trips) : Fin 2 → Nat :=
  let c256_i32_706 : BitVec 32 := 256#32
  let c0_i32_705 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c256_i32_704 : BitVec 32 := 256#32
  let v1172 : BitVec 32 := Scalar.subi v577 c256_i32_704
  let v1173 : BitVec 32 := Scalar.maxsi c0_i32_705 v1172
  let v1174 : BitVec 32 := Scalar.minsi c256_i32_706 v1173
  let c256_i32_709 : BitVec 32 := 256#32
  let c0_i32_708 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c256_i32_707 : BitVec 32 := 256#32
  let v1175 : BitVec 32 := Scalar.subi v582 c256_i32_707
  let v1176 : BitVec 32 := Scalar.maxsi c0_i32_708 v1175
  let v1177 : BitVec 32 := Scalar.minsi c256_i32_709 v1176
  let v1805 : BitVec 32 := Scalar.subi v1177 v1174
  let c1_i32_1196 : BitVec 32 := 1#32
  let v1807 : BitVec 32 := Scalar.divsi v1805 c1_i32_1196
  let v1808 : BitVec 32 := Scalar.muli v1807 c1_i32_1196
  let v1809 : BitVec 32 := Scalar.addi v1174 v1808
  let c1_i32_1198 : BitVec 32 := 1#32
  let arg13 : BitVec 32 := Scf.iv v1809 c1_i32_1198 k1_t122
  let v1840 : Index := Scalar.indexCast arg13
  let c48_1210 : Index := 48#32
  ![v1840.toNat, 48]
@[reducible] def k1_t123_loop (i : grid1.Coords) (v584 : BitVec 32) (v590 : BitVec 32) : Scf.Loop 32 :=
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let c256_i32_716 : BitVec 32 := 256#32
  let c0_i32_715 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c256_i32_714 : BitVec 32 := 256#32
  let v1184 : BitVec 32 := Scalar.subi v594 c256_i32_714
  let v1185 : BitVec 32 := Scalar.maxsi c0_i32_715 v1184
  let v1186 : BitVec 32 := Scalar.minsi c256_i32_716 v1185
  let v1805 : BitVec 32 := Scalar.subi v1186 v1183
  let c1_i32_1196 : BitVec 32 := 1#32
  let v1807 : BitVec 32 := Scalar.divsi v1805 c1_i32_1196
  let v1808 : BitVec 32 := Scalar.muli v1807 c1_i32_1196
  let v1809 : BitVec 32 := Scalar.addi v1183 v1808
  let c1_i32_1197 : BitVec 32 := 1#32
  ⟨v1183, v1809, c1_i32_1197⟩
def k1_cond62 (i : grid1.Coords) (v584 : BitVec 32) (v590 : BitVec 32) : BitVec 1 :=
  let c256_i32_716 : BitVec 32 := 256#32
  let c0_i32_715 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v592 : BitVec 32 := Scalar.subi v591 v3
  let v593 : BitVec 32 := Scalar.maxsi c0_i32_259 v592
  let v594 : BitVec 32 := Scalar.minsi c1024_i32_260 v593
  let c256_i32_714 : BitVec 32 := 256#32
  let v1184 : BitVec 32 := Scalar.subi v594 c256_i32_714
  let v1185 : BitVec 32 := Scalar.maxsi c0_i32_715 v1184
  let v1186 : BitVec 32 := Scalar.minsi c256_i32_716 v1185
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let v1187 : BitVec 1 := Scalar.cmpi .sgt v1186 v1183
  let v1188 : BitVec 32 := Scalar.extui v1187
  let c0_i32_717 : BitVec 32 := 0#32
  let v1189 : BitVec 1 := Scalar.cmpi .ne v1188 c0_i32_717
  v1189

def k1_off491 (i : grid1.Coords) (v584 : BitVec 32) (v590 : BitVec 32) (k1_t123 : Fin (k1_t123_loop i v584 v590).trips) : Fin 2 → Nat :=
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let c1_i32_1197 : BitVec 32 := 1#32
  let arg13 : BitVec 32 := Scf.iv v1183 c1_i32_1197 k1_t123
  let v1828 : Index := Scalar.indexCast arg13
  let c64 : Index := 64#32
  ![v1828.toNat, 64]
def k1_off492 (i : grid1.Coords) (v584 : BitVec 32) (v590 : BitVec 32) (k1_t123 : Fin (k1_t123_loop i v584 v590).trips) : Fin 2 → Nat :=
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let c1_i32_1197 : BitVec 32 := 1#32
  let arg13 : BitVec 32 := Scf.iv v1183 c1_i32_1197 k1_t123
  let v1832 : Index := Scalar.indexCast arg13
  let c80 : Index := 80#32
  ![v1832.toNat, 80]
def k1_off493 (i : grid1.Coords) (v584 : BitVec 32) (v590 : BitVec 32) (k1_t123 : Fin (k1_t123_loop i v584 v590).trips) : Fin 2 → Nat :=
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let c1_i32_1197 : BitVec 32 := 1#32
  let arg13 : BitVec 32 := Scf.iv v1183 c1_i32_1197 k1_t123
  let v1836 : Index := Scalar.indexCast arg13
  let c96 : Index := 96#32
  ![v1836.toNat, 96]
def k1_off494 (i : grid1.Coords) (v584 : BitVec 32) (v590 : BitVec 32) (k1_t123 : Fin (k1_t123_loop i v584 v590).trips) : Fin 2 → Nat :=
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let c1_i32_1197 : BitVec 32 := 1#32
  let arg13 : BitVec 32 := Scf.iv v1183 c1_i32_1197 k1_t123
  let v1840 : Index := Scalar.indexCast arg13
  let c112 : Index := 112#32
  ![v1840.toNat, 112]
@[reducible] def k1_t124_loop (i : grid1.Coords) (v584 : BitVec 32) (v590 : BitVec 32) : Scf.Loop 32 :=
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let c256_i32_716 : BitVec 32 := 256#32
  let c0_i32_715 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c256_i32_714 : BitVec 32 := 256#32
  let v1184 : BitVec 32 := Scalar.subi v594 c256_i32_714
  let v1185 : BitVec 32 := Scalar.maxsi c0_i32_715 v1184
  let v1186 : BitVec 32 := Scalar.minsi c256_i32_716 v1185
  let v1805 : BitVec 32 := Scalar.subi v1186 v1183
  let c1_i32_1196 : BitVec 32 := 1#32
  let v1807 : BitVec 32 := Scalar.divsi v1805 c1_i32_1196
  let v1808 : BitVec 32 := Scalar.muli v1807 c1_i32_1196
  let v1809 : BitVec 32 := Scalar.addi v1183 v1808
  let v1806 : BitVec 32 := Scalar.addi v1183 v1805
  let c1_i32_1198 : BitVec 32 := 1#32
  ⟨v1809, v1806, c1_i32_1198⟩
def k1_off495 (i : grid1.Coords) (v584 : BitVec 32) (v590 : BitVec 32) (k1_t124 : Fin (k1_t124_loop i v584 v590).trips) : Fin 2 → Nat :=
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let c256_i32_716 : BitVec 32 := 256#32
  let c0_i32_715 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c256_i32_714 : BitVec 32 := 256#32
  let v1184 : BitVec 32 := Scalar.subi v594 c256_i32_714
  let v1185 : BitVec 32 := Scalar.maxsi c0_i32_715 v1184
  let v1186 : BitVec 32 := Scalar.minsi c256_i32_716 v1185
  let v1805 : BitVec 32 := Scalar.subi v1186 v1183
  let c1_i32_1196 : BitVec 32 := 1#32
  let v1807 : BitVec 32 := Scalar.divsi v1805 c1_i32_1196
  let v1808 : BitVec 32 := Scalar.muli v1807 c1_i32_1196
  let v1809 : BitVec 32 := Scalar.addi v1183 v1808
  let c1_i32_1198 : BitVec 32 := 1#32
  let arg13 : BitVec 32 := Scf.iv v1809 c1_i32_1198 k1_t124
  let v1828 : Index := Scalar.indexCast arg13
  let c64 : Index := 64#32
  ![v1828.toNat, 64]
def k1_off496 (i : grid1.Coords) (v584 : BitVec 32) (v590 : BitVec 32) (k1_t124 : Fin (k1_t124_loop i v584 v590).trips) : Fin 2 → Nat :=
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let c256_i32_716 : BitVec 32 := 256#32
  let c0_i32_715 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c256_i32_714 : BitVec 32 := 256#32
  let v1184 : BitVec 32 := Scalar.subi v594 c256_i32_714
  let v1185 : BitVec 32 := Scalar.maxsi c0_i32_715 v1184
  let v1186 : BitVec 32 := Scalar.minsi c256_i32_716 v1185
  let v1805 : BitVec 32 := Scalar.subi v1186 v1183
  let c1_i32_1196 : BitVec 32 := 1#32
  let v1807 : BitVec 32 := Scalar.divsi v1805 c1_i32_1196
  let v1808 : BitVec 32 := Scalar.muli v1807 c1_i32_1196
  let v1809 : BitVec 32 := Scalar.addi v1183 v1808
  let c1_i32_1198 : BitVec 32 := 1#32
  let arg13 : BitVec 32 := Scf.iv v1809 c1_i32_1198 k1_t124
  let v1832 : Index := Scalar.indexCast arg13
  let c80 : Index := 80#32
  ![v1832.toNat, 80]
def k1_off497 (i : grid1.Coords) (v584 : BitVec 32) (v590 : BitVec 32) (k1_t124 : Fin (k1_t124_loop i v584 v590).trips) : Fin 2 → Nat :=
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let c256_i32_716 : BitVec 32 := 256#32
  let c0_i32_715 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c256_i32_714 : BitVec 32 := 256#32
  let v1184 : BitVec 32 := Scalar.subi v594 c256_i32_714
  let v1185 : BitVec 32 := Scalar.maxsi c0_i32_715 v1184
  let v1186 : BitVec 32 := Scalar.minsi c256_i32_716 v1185
  let v1805 : BitVec 32 := Scalar.subi v1186 v1183
  let c1_i32_1196 : BitVec 32 := 1#32
  let v1807 : BitVec 32 := Scalar.divsi v1805 c1_i32_1196
  let v1808 : BitVec 32 := Scalar.muli v1807 c1_i32_1196
  let v1809 : BitVec 32 := Scalar.addi v1183 v1808
  let c1_i32_1198 : BitVec 32 := 1#32
  let arg13 : BitVec 32 := Scf.iv v1809 c1_i32_1198 k1_t124
  let v1836 : Index := Scalar.indexCast arg13
  let c96 : Index := 96#32
  ![v1836.toNat, 96]
def k1_off498 (i : grid1.Coords) (v584 : BitVec 32) (v590 : BitVec 32) (k1_t124 : Fin (k1_t124_loop i v584 v590).trips) : Fin 2 → Nat :=
  let c256_i32_713 : BitVec 32 := 256#32
  let c0_i32_712 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c256_i32_711 : BitVec 32 := 256#32
  let v1181 : BitVec 32 := Scalar.subi v588 c256_i32_711
  let v1182 : BitVec 32 := Scalar.maxsi c0_i32_712 v1181
  let v1183 : BitVec 32 := Scalar.minsi c256_i32_713 v1182
  let c256_i32_716 : BitVec 32 := 256#32
  let c0_i32_715 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c256_i32_714 : BitVec 32 := 256#32
  let v1184 : BitVec 32 := Scalar.subi v594 c256_i32_714
  let v1185 : BitVec 32 := Scalar.maxsi c0_i32_715 v1184
  let v1186 : BitVec 32 := Scalar.minsi c256_i32_716 v1185
  let v1805 : BitVec 32 := Scalar.subi v1186 v1183
  let c1_i32_1196 : BitVec 32 := 1#32
  let v1807 : BitVec 32 := Scalar.divsi v1805 c1_i32_1196
  let v1808 : BitVec 32 := Scalar.muli v1807 c1_i32_1196
  let v1809 : BitVec 32 := Scalar.addi v1183 v1808
  let c1_i32_1198 : BitVec 32 := 1#32
  let arg13 : BitVec 32 := Scf.iv v1809 c1_i32_1198 k1_t124
  let v1840 : Index := Scalar.indexCast arg13
  let c112 : Index := 112#32
  ![v1840.toNat, 112]
@[reducible] def k1_t125_loop (i : grid1.Coords) (v596 : BitVec 32) (v601 : BitVec 32) : Scf.Loop 32 :=
  let c256_i32_720 : BitVec 32 := 256#32
  let c0_i32_719 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let c256_i32_723 : BitVec 32 := 256#32
  let c0_i32_722 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c256_i32_721 : BitVec 32 := 256#32
  let v1193 : BitVec 32 := Scalar.subi v604 c256_i32_721
  let v1194 : BitVec 32 := Scalar.maxsi c0_i32_722 v1193
  let v1195 : BitVec 32 := Scalar.minsi c256_i32_723 v1194
  let v1805 : BitVec 32 := Scalar.subi v1195 v1192
  let c1_i32_1196 : BitVec 32 := 1#32
  let v1807 : BitVec 32 := Scalar.divsi v1805 c1_i32_1196
  let v1808 : BitVec 32 := Scalar.muli v1807 c1_i32_1196
  let v1809 : BitVec 32 := Scalar.addi v1192 v1808
  let c1_i32_1197 : BitVec 32 := 1#32
  ⟨v1192, v1809, c1_i32_1197⟩
def k1_cond63 (i : grid1.Coords) (v596 : BitVec 32) (v601 : BitVec 32) : BitVec 1 :=
  let c256_i32_723 : BitVec 32 := 256#32
  let c0_i32_722 : BitVec 32 := 0#32
  let c1024_i32_264 : BitVec 32 := 1024#32
  let c0_i32_263 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v602 : BitVec 32 := Scalar.subi v601 v3
  let v603 : BitVec 32 := Scalar.maxsi c0_i32_263 v602
  let v604 : BitVec 32 := Scalar.minsi c1024_i32_264 v603
  let c256_i32_721 : BitVec 32 := 256#32
  let v1193 : BitVec 32 := Scalar.subi v604 c256_i32_721
  let v1194 : BitVec 32 := Scalar.maxsi c0_i32_722 v1193
  let v1195 : BitVec 32 := Scalar.minsi c256_i32_723 v1194
  let c256_i32_720 : BitVec 32 := 256#32
  let c0_i32_719 : BitVec 32 := 0#32
  let c1024_i32_262 : BitVec 32 := 1024#32
  let c0_i32_261 : BitVec 32 := 0#32
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let v1196 : BitVec 1 := Scalar.cmpi .sgt v1195 v1192
  let v1197 : BitVec 32 := Scalar.extui v1196
  let c0_i32_724 : BitVec 32 := 0#32
  let v1198 : BitVec 1 := Scalar.cmpi .ne v1197 c0_i32_724
  v1198

def k1_off499 (i : grid1.Coords) (v596 : BitVec 32) (v601 : BitVec 32) (k1_t125 : Fin (k1_t125_loop i v596 v601).trips) : Fin 2 → Nat :=
  let c256_i32_720 : BitVec 32 := 256#32
  let c0_i32_719 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let c1_i32_1197 : BitVec 32 := 1#32
  let arg13 : BitVec 32 := Scf.iv v1192 c1_i32_1197 k1_t125
  let v1828 : Index := Scalar.indexCast arg13
  let c0_1207 : Index := 0#32
  ![v1828.toNat, 0]
def k1_off500 (i : grid1.Coords) (v596 : BitVec 32) (v601 : BitVec 32) (k1_t125 : Fin (k1_t125_loop i v596 v601).trips) : Fin 2 → Nat :=
  let c256_i32_720 : BitVec 32 := 256#32
  let c0_i32_719 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let c1_i32_1197 : BitVec 32 := 1#32
  let arg13 : BitVec 32 := Scf.iv v1192 c1_i32_1197 k1_t125
  let v1832 : Index := Scalar.indexCast arg13
  let c16_1208 : Index := 16#32
  ![v1832.toNat, 16]
def k1_off501 (i : grid1.Coords) (v596 : BitVec 32) (v601 : BitVec 32) (k1_t125 : Fin (k1_t125_loop i v596 v601).trips) : Fin 2 → Nat :=
  let c256_i32_720 : BitVec 32 := 256#32
  let c0_i32_719 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let c1_i32_1197 : BitVec 32 := 1#32
  let arg13 : BitVec 32 := Scf.iv v1192 c1_i32_1197 k1_t125
  let v1836 : Index := Scalar.indexCast arg13
  let c32_1209 : Index := 32#32
  ![v1836.toNat, 32]
def k1_off502 (i : grid1.Coords) (v596 : BitVec 32) (v601 : BitVec 32) (k1_t125 : Fin (k1_t125_loop i v596 v601).trips) : Fin 2 → Nat :=
  let c256_i32_720 : BitVec 32 := 256#32
  let c0_i32_719 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let c1_i32_1197 : BitVec 32 := 1#32
  let arg13 : BitVec 32 := Scf.iv v1192 c1_i32_1197 k1_t125
  let v1840 : Index := Scalar.indexCast arg13
  let c48_1210 : Index := 48#32
  ![v1840.toNat, 48]
@[reducible] def k1_t126_loop (i : grid1.Coords) (v596 : BitVec 32) (v601 : BitVec 32) : Scf.Loop 32 :=
  let c256_i32_720 : BitVec 32 := 256#32
  let c0_i32_719 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let c256_i32_723 : BitVec 32 := 256#32
  let c0_i32_722 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c256_i32_721 : BitVec 32 := 256#32
  let v1193 : BitVec 32 := Scalar.subi v604 c256_i32_721
  let v1194 : BitVec 32 := Scalar.maxsi c0_i32_722 v1193
  let v1195 : BitVec 32 := Scalar.minsi c256_i32_723 v1194
  let v1805 : BitVec 32 := Scalar.subi v1195 v1192
  let c1_i32_1196 : BitVec 32 := 1#32
  let v1807 : BitVec 32 := Scalar.divsi v1805 c1_i32_1196
  let v1808 : BitVec 32 := Scalar.muli v1807 c1_i32_1196
  let v1809 : BitVec 32 := Scalar.addi v1192 v1808
  let v1806 : BitVec 32 := Scalar.addi v1192 v1805
  let c1_i32_1198 : BitVec 32 := 1#32
  ⟨v1809, v1806, c1_i32_1198⟩
def k1_off503 (i : grid1.Coords) (v596 : BitVec 32) (v601 : BitVec 32) (k1_t126 : Fin (k1_t126_loop i v596 v601).trips) : Fin 2 → Nat :=
  let c256_i32_720 : BitVec 32 := 256#32
  let c0_i32_719 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let c256_i32_723 : BitVec 32 := 256#32
  let c0_i32_722 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c256_i32_721 : BitVec 32 := 256#32
  let v1193 : BitVec 32 := Scalar.subi v604 c256_i32_721
  let v1194 : BitVec 32 := Scalar.maxsi c0_i32_722 v1193
  let v1195 : BitVec 32 := Scalar.minsi c256_i32_723 v1194
  let v1805 : BitVec 32 := Scalar.subi v1195 v1192
  let c1_i32_1196 : BitVec 32 := 1#32
  let v1807 : BitVec 32 := Scalar.divsi v1805 c1_i32_1196
  let v1808 : BitVec 32 := Scalar.muli v1807 c1_i32_1196
  let v1809 : BitVec 32 := Scalar.addi v1192 v1808
  let c1_i32_1198 : BitVec 32 := 1#32
  let arg13 : BitVec 32 := Scf.iv v1809 c1_i32_1198 k1_t126
  let v1828 : Index := Scalar.indexCast arg13
  let c0_1207 : Index := 0#32
  ![v1828.toNat, 0]
def k1_off504 (i : grid1.Coords) (v596 : BitVec 32) (v601 : BitVec 32) (k1_t126 : Fin (k1_t126_loop i v596 v601).trips) : Fin 2 → Nat :=
  let c256_i32_720 : BitVec 32 := 256#32
  let c0_i32_719 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let c256_i32_723 : BitVec 32 := 256#32
  let c0_i32_722 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c256_i32_721 : BitVec 32 := 256#32
  let v1193 : BitVec 32 := Scalar.subi v604 c256_i32_721
  let v1194 : BitVec 32 := Scalar.maxsi c0_i32_722 v1193
  let v1195 : BitVec 32 := Scalar.minsi c256_i32_723 v1194
  let v1805 : BitVec 32 := Scalar.subi v1195 v1192
  let c1_i32_1196 : BitVec 32 := 1#32
  let v1807 : BitVec 32 := Scalar.divsi v1805 c1_i32_1196
  let v1808 : BitVec 32 := Scalar.muli v1807 c1_i32_1196
  let v1809 : BitVec 32 := Scalar.addi v1192 v1808
  let c1_i32_1198 : BitVec 32 := 1#32
  let arg13 : BitVec 32 := Scf.iv v1809 c1_i32_1198 k1_t126
  let v1832 : Index := Scalar.indexCast arg13
  let c16_1208 : Index := 16#32
  ![v1832.toNat, 16]
def k1_off505 (i : grid1.Coords) (v596 : BitVec 32) (v601 : BitVec 32) (k1_t126 : Fin (k1_t126_loop i v596 v601).trips) : Fin 2 → Nat :=
  let c256_i32_720 : BitVec 32 := 256#32
  let c0_i32_719 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let c256_i32_723 : BitVec 32 := 256#32
  let c0_i32_722 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c256_i32_721 : BitVec 32 := 256#32
  let v1193 : BitVec 32 := Scalar.subi v604 c256_i32_721
  let v1194 : BitVec 32 := Scalar.maxsi c0_i32_722 v1193
  let v1195 : BitVec 32 := Scalar.minsi c256_i32_723 v1194
  let v1805 : BitVec 32 := Scalar.subi v1195 v1192
  let c1_i32_1196 : BitVec 32 := 1#32
  let v1807 : BitVec 32 := Scalar.divsi v1805 c1_i32_1196
  let v1808 : BitVec 32 := Scalar.muli v1807 c1_i32_1196
  let v1809 : BitVec 32 := Scalar.addi v1192 v1808
  let c1_i32_1198 : BitVec 32 := 1#32
  let arg13 : BitVec 32 := Scf.iv v1809 c1_i32_1198 k1_t126
  let v1836 : Index := Scalar.indexCast arg13
  let c32_1209 : Index := 32#32
  ![v1836.toNat, 32]
def k1_off506 (i : grid1.Coords) (v596 : BitVec 32) (v601 : BitVec 32) (k1_t126 : Fin (k1_t126_loop i v596 v601).trips) : Fin 2 → Nat :=
  let c256_i32_720 : BitVec 32 := 256#32
  let c0_i32_719 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c256_i32_718 : BitVec 32 := 256#32
  let v1190 : BitVec 32 := Scalar.subi v599 c256_i32_718
  let v1191 : BitVec 32 := Scalar.maxsi c0_i32_719 v1190
  let v1192 : BitVec 32 := Scalar.minsi c256_i32_720 v1191
  let c256_i32_723 : BitVec 32 := 256#32
  let c0_i32_722 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c256_i32_721 : BitVec 32 := 256#32
  let v1193 : BitVec 32 := Scalar.subi v604 c256_i32_721
  let v1194 : BitVec 32 := Scalar.maxsi c0_i32_722 v1193
  let v1195 : BitVec 32 := Scalar.minsi c256_i32_723 v1194
  let v1805 : BitVec 32 := Scalar.subi v1195 v1192
  let c1_i32_1196 : BitVec 32 := 1#32
  let v1807 : BitVec 32 := Scalar.divsi v1805 c1_i32_1196
  let v1808 : BitVec 32 := Scalar.muli v1807 c1_i32_1196
  let v1809 : BitVec 32 := Scalar.addi v1192 v1808
  let c1_i32_1198 : BitVec 32 := 1#32
  let arg13 : BitVec 32 := Scf.iv v1809 c1_i32_1198 k1_t126
  let v1840 : Index := Scalar.indexCast arg13
  let c48_1210 : Index := 48#32
  ![v1840.toNat, 48]
@[reducible] def k1_t127_loop (i : grid1.Coords) (v606 : BitVec 32) (v612 : BitVec 32) : Scf.Loop 32 :=
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let c256_i32_730 : BitVec 32 := 256#32
  let c0_i32_729 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c256_i32_728 : BitVec 32 := 256#32
  let v1202 : BitVec 32 := Scalar.subi v616 c256_i32_728
  let v1203 : BitVec 32 := Scalar.maxsi c0_i32_729 v1202
  let v1204 : BitVec 32 := Scalar.minsi c256_i32_730 v1203
  let v1805 : BitVec 32 := Scalar.subi v1204 v1201
  let c1_i32_1196 : BitVec 32 := 1#32
  let v1807 : BitVec 32 := Scalar.divsi v1805 c1_i32_1196
  let v1808 : BitVec 32 := Scalar.muli v1807 c1_i32_1196
  let v1809 : BitVec 32 := Scalar.addi v1201 v1808
  let c1_i32_1197 : BitVec 32 := 1#32
  ⟨v1201, v1809, c1_i32_1197⟩
def k1_cond64 (i : grid1.Coords) (v606 : BitVec 32) (v612 : BitVec 32) : BitVec 1 :=
  let c256_i32_730 : BitVec 32 := 256#32
  let c0_i32_729 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v614 : BitVec 32 := Scalar.subi v613 v3
  let v615 : BitVec 32 := Scalar.maxsi c0_i32_269 v614
  let v616 : BitVec 32 := Scalar.minsi c1024_i32_270 v615
  let c256_i32_728 : BitVec 32 := 256#32
  let v1202 : BitVec 32 := Scalar.subi v616 c256_i32_728
  let v1203 : BitVec 32 := Scalar.maxsi c0_i32_729 v1202
  let v1204 : BitVec 32 := Scalar.minsi c256_i32_730 v1203
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let v1205 : BitVec 1 := Scalar.cmpi .sgt v1204 v1201
  let v1206 : BitVec 32 := Scalar.extui v1205
  let c0_i32_731 : BitVec 32 := 0#32
  let v1207 : BitVec 1 := Scalar.cmpi .ne v1206 c0_i32_731
  v1207

def k1_off507 (i : grid1.Coords) (v606 : BitVec 32) (v612 : BitVec 32) (k1_t127 : Fin (k1_t127_loop i v606 v612).trips) : Fin 2 → Nat :=
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let c1_i32_1197 : BitVec 32 := 1#32
  let arg13 : BitVec 32 := Scf.iv v1201 c1_i32_1197 k1_t127
  let v1828 : Index := Scalar.indexCast arg13
  let c64 : Index := 64#32
  ![v1828.toNat, 64]
def k1_off508 (i : grid1.Coords) (v606 : BitVec 32) (v612 : BitVec 32) (k1_t127 : Fin (k1_t127_loop i v606 v612).trips) : Fin 2 → Nat :=
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let c1_i32_1197 : BitVec 32 := 1#32
  let arg13 : BitVec 32 := Scf.iv v1201 c1_i32_1197 k1_t127
  let v1832 : Index := Scalar.indexCast arg13
  let c80 : Index := 80#32
  ![v1832.toNat, 80]
def k1_off509 (i : grid1.Coords) (v606 : BitVec 32) (v612 : BitVec 32) (k1_t127 : Fin (k1_t127_loop i v606 v612).trips) : Fin 2 → Nat :=
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let c1_i32_1197 : BitVec 32 := 1#32
  let arg13 : BitVec 32 := Scf.iv v1201 c1_i32_1197 k1_t127
  let v1836 : Index := Scalar.indexCast arg13
  let c96 : Index := 96#32
  ![v1836.toNat, 96]
def k1_off510 (i : grid1.Coords) (v606 : BitVec 32) (v612 : BitVec 32) (k1_t127 : Fin (k1_t127_loop i v606 v612).trips) : Fin 2 → Nat :=
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let c1_i32_1197 : BitVec 32 := 1#32
  let arg13 : BitVec 32 := Scf.iv v1201 c1_i32_1197 k1_t127
  let v1840 : Index := Scalar.indexCast arg13
  let c112 : Index := 112#32
  ![v1840.toNat, 112]
@[reducible] def k1_t128_loop (i : grid1.Coords) (v606 : BitVec 32) (v612 : BitVec 32) : Scf.Loop 32 :=
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let c256_i32_730 : BitVec 32 := 256#32
  let c0_i32_729 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c256_i32_728 : BitVec 32 := 256#32
  let v1202 : BitVec 32 := Scalar.subi v616 c256_i32_728
  let v1203 : BitVec 32 := Scalar.maxsi c0_i32_729 v1202
  let v1204 : BitVec 32 := Scalar.minsi c256_i32_730 v1203
  let v1805 : BitVec 32 := Scalar.subi v1204 v1201
  let c1_i32_1196 : BitVec 32 := 1#32
  let v1807 : BitVec 32 := Scalar.divsi v1805 c1_i32_1196
  let v1808 : BitVec 32 := Scalar.muli v1807 c1_i32_1196
  let v1809 : BitVec 32 := Scalar.addi v1201 v1808
  let v1806 : BitVec 32 := Scalar.addi v1201 v1805
  let c1_i32_1198 : BitVec 32 := 1#32
  ⟨v1809, v1806, c1_i32_1198⟩
def k1_off511 (i : grid1.Coords) (v606 : BitVec 32) (v612 : BitVec 32) (k1_t128 : Fin (k1_t128_loop i v606 v612).trips) : Fin 2 → Nat :=
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let c256_i32_730 : BitVec 32 := 256#32
  let c0_i32_729 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c256_i32_728 : BitVec 32 := 256#32
  let v1202 : BitVec 32 := Scalar.subi v616 c256_i32_728
  let v1203 : BitVec 32 := Scalar.maxsi c0_i32_729 v1202
  let v1204 : BitVec 32 := Scalar.minsi c256_i32_730 v1203
  let v1805 : BitVec 32 := Scalar.subi v1204 v1201
  let c1_i32_1196 : BitVec 32 := 1#32
  let v1807 : BitVec 32 := Scalar.divsi v1805 c1_i32_1196
  let v1808 : BitVec 32 := Scalar.muli v1807 c1_i32_1196
  let v1809 : BitVec 32 := Scalar.addi v1201 v1808
  let c1_i32_1198 : BitVec 32 := 1#32
  let arg13 : BitVec 32 := Scf.iv v1809 c1_i32_1198 k1_t128
  let v1828 : Index := Scalar.indexCast arg13
  let c64 : Index := 64#32
  ![v1828.toNat, 64]
def k1_off512 (i : grid1.Coords) (v606 : BitVec 32) (v612 : BitVec 32) (k1_t128 : Fin (k1_t128_loop i v606 v612).trips) : Fin 2 → Nat :=
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let c256_i32_730 : BitVec 32 := 256#32
  let c0_i32_729 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c256_i32_728 : BitVec 32 := 256#32
  let v1202 : BitVec 32 := Scalar.subi v616 c256_i32_728
  let v1203 : BitVec 32 := Scalar.maxsi c0_i32_729 v1202
  let v1204 : BitVec 32 := Scalar.minsi c256_i32_730 v1203
  let v1805 : BitVec 32 := Scalar.subi v1204 v1201
  let c1_i32_1196 : BitVec 32 := 1#32
  let v1807 : BitVec 32 := Scalar.divsi v1805 c1_i32_1196
  let v1808 : BitVec 32 := Scalar.muli v1807 c1_i32_1196
  let v1809 : BitVec 32 := Scalar.addi v1201 v1808
  let c1_i32_1198 : BitVec 32 := 1#32
  let arg13 : BitVec 32 := Scf.iv v1809 c1_i32_1198 k1_t128
  let v1832 : Index := Scalar.indexCast arg13
  let c80 : Index := 80#32
  ![v1832.toNat, 80]
def k1_off513 (i : grid1.Coords) (v606 : BitVec 32) (v612 : BitVec 32) (k1_t128 : Fin (k1_t128_loop i v606 v612).trips) : Fin 2 → Nat :=
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let c256_i32_730 : BitVec 32 := 256#32
  let c0_i32_729 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c256_i32_728 : BitVec 32 := 256#32
  let v1202 : BitVec 32 := Scalar.subi v616 c256_i32_728
  let v1203 : BitVec 32 := Scalar.maxsi c0_i32_729 v1202
  let v1204 : BitVec 32 := Scalar.minsi c256_i32_730 v1203
  let v1805 : BitVec 32 := Scalar.subi v1204 v1201
  let c1_i32_1196 : BitVec 32 := 1#32
  let v1807 : BitVec 32 := Scalar.divsi v1805 c1_i32_1196
  let v1808 : BitVec 32 := Scalar.muli v1807 c1_i32_1196
  let v1809 : BitVec 32 := Scalar.addi v1201 v1808
  let c1_i32_1198 : BitVec 32 := 1#32
  let arg13 : BitVec 32 := Scf.iv v1809 c1_i32_1198 k1_t128
  let v1836 : Index := Scalar.indexCast arg13
  let c96 : Index := 96#32
  ![v1836.toNat, 96]
def k1_off514 (i : grid1.Coords) (v606 : BitVec 32) (v612 : BitVec 32) (k1_t128 : Fin (k1_t128_loop i v606 v612).trips) : Fin 2 → Nat :=
  let c256_i32_727 : BitVec 32 := 256#32
  let c0_i32_726 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c256_i32_725 : BitVec 32 := 256#32
  let v1199 : BitVec 32 := Scalar.subi v610 c256_i32_725
  let v1200 : BitVec 32 := Scalar.maxsi c0_i32_726 v1199
  let v1201 : BitVec 32 := Scalar.minsi c256_i32_727 v1200
  let c256_i32_730 : BitVec 32 := 256#32
  let c0_i32_729 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c256_i32_728 : BitVec 32 := 256#32
  let v1202 : BitVec 32 := Scalar.subi v616 c256_i32_728
  let v1203 : BitVec 32 := Scalar.maxsi c0_i32_729 v1202
  let v1204 : BitVec 32 := Scalar.minsi c256_i32_730 v1203
  let v1805 : BitVec 32 := Scalar.subi v1204 v1201
  let c1_i32_1196 : BitVec 32 := 1#32
  let v1807 : BitVec 32 := Scalar.divsi v1805 c1_i32_1196
  let v1808 : BitVec 32 := Scalar.muli v1807 c1_i32_1196
  let v1809 : BitVec 32 := Scalar.addi v1201 v1808
  let c1_i32_1198 : BitVec 32 := 1#32
  let arg13 : BitVec 32 := Scf.iv v1809 c1_i32_1198 k1_t128
  let v1840 : Index := Scalar.indexCast arg13
  let c112 : Index := 112#32
  ![v1840.toNat, 112]
@[reducible] def k1_t129_loop (i : grid1.Coords) (v266 : BitVec 32) (v271 : BitVec 32) : Scf.Loop 32 :=
  let c256_i32_739 : BitVec 32 := 256#32
  let c0_i32_738 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let c256_i32_742 : BitVec 32 := 256#32
  let c0_i32_741 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c512_i32_740 : BitVec 32 := 512#32
  let v1217 : BitVec 32 := Scalar.subi v274 c512_i32_740
  let v1218 : BitVec 32 := Scalar.maxsi c0_i32_741 v1217
  let v1219 : BitVec 32 := Scalar.minsi c256_i32_742 v1218
  let v1805 : BitVec 32 := Scalar.subi v1219 v1216
  let c1_i32_1196 : BitVec 32 := 1#32
  let v1807 : BitVec 32 := Scalar.divsi v1805 c1_i32_1196
  let v1808 : BitVec 32 := Scalar.muli v1807 c1_i32_1196
  let v1809 : BitVec 32 := Scalar.addi v1216 v1808
  let c1_i32_1197 : BitVec 32 := 1#32
  ⟨v1216, v1809, c1_i32_1197⟩
def k1_cond65 (i : grid1.Coords) (v266 : BitVec 32) (v271 : BitVec 32) : BitVec 1 :=
  let c256_i32_742 : BitVec 32 := 256#32
  let c0_i32_741 : BitVec 32 := 0#32
  let c1024_i32_115 : BitVec 32 := 1024#32
  let c0_i32_114 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v272 : BitVec 32 := Scalar.subi v271 v3
  let v273 : BitVec 32 := Scalar.maxsi c0_i32_114 v272
  let v274 : BitVec 32 := Scalar.minsi c1024_i32_115 v273
  let c512_i32_740 : BitVec 32 := 512#32
  let v1217 : BitVec 32 := Scalar.subi v274 c512_i32_740
  let v1218 : BitVec 32 := Scalar.maxsi c0_i32_741 v1217
  let v1219 : BitVec 32 := Scalar.minsi c256_i32_742 v1218
  let c256_i32_739 : BitVec 32 := 256#32
  let c0_i32_738 : BitVec 32 := 0#32
  let c1024_i32_113 : BitVec 32 := 1024#32
  let c0_i32_112 : BitVec 32 := 0#32
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let v1220 : BitVec 1 := Scalar.cmpi .sgt v1219 v1216
  let v1221 : BitVec 32 := Scalar.extui v1220
  let c0_i32_743 : BitVec 32 := 0#32
  let v1222 : BitVec 1 := Scalar.cmpi .ne v1221 c0_i32_743
  v1222

def k1_off515 (i : grid1.Coords) (v266 : BitVec 32) (v271 : BitVec 32) (k1_t129 : Fin (k1_t129_loop i v266 v271).trips) : Fin 2 → Nat :=
  let c256_i32_739 : BitVec 32 := 256#32
  let c0_i32_738 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let c1_i32_1197 : BitVec 32 := 1#32
  let arg13 : BitVec 32 := Scf.iv v1216 c1_i32_1197 k1_t129
  let v1828 : Index := Scalar.indexCast arg13
  let c0_1207 : Index := 0#32
  ![v1828.toNat, 0]
def k1_off516 (i : grid1.Coords) (v266 : BitVec 32) (v271 : BitVec 32) (k1_t129 : Fin (k1_t129_loop i v266 v271).trips) : Fin 2 → Nat :=
  let c256_i32_739 : BitVec 32 := 256#32
  let c0_i32_738 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let c1_i32_1197 : BitVec 32 := 1#32
  let arg13 : BitVec 32 := Scf.iv v1216 c1_i32_1197 k1_t129
  let v1832 : Index := Scalar.indexCast arg13
  let c16_1208 : Index := 16#32
  ![v1832.toNat, 16]
def k1_off517 (i : grid1.Coords) (v266 : BitVec 32) (v271 : BitVec 32) (k1_t129 : Fin (k1_t129_loop i v266 v271).trips) : Fin 2 → Nat :=
  let c256_i32_739 : BitVec 32 := 256#32
  let c0_i32_738 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let c1_i32_1197 : BitVec 32 := 1#32
  let arg13 : BitVec 32 := Scf.iv v1216 c1_i32_1197 k1_t129
  let v1836 : Index := Scalar.indexCast arg13
  let c32_1209 : Index := 32#32
  ![v1836.toNat, 32]
def k1_off518 (i : grid1.Coords) (v266 : BitVec 32) (v271 : BitVec 32) (k1_t129 : Fin (k1_t129_loop i v266 v271).trips) : Fin 2 → Nat :=
  let c256_i32_739 : BitVec 32 := 256#32
  let c0_i32_738 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let c1_i32_1197 : BitVec 32 := 1#32
  let arg13 : BitVec 32 := Scf.iv v1216 c1_i32_1197 k1_t129
  let v1840 : Index := Scalar.indexCast arg13
  let c48_1210 : Index := 48#32
  ![v1840.toNat, 48]
@[reducible] def k1_t130_loop (i : grid1.Coords) (v266 : BitVec 32) (v271 : BitVec 32) : Scf.Loop 32 :=
  let c256_i32_739 : BitVec 32 := 256#32
  let c0_i32_738 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let c256_i32_742 : BitVec 32 := 256#32
  let c0_i32_741 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c512_i32_740 : BitVec 32 := 512#32
  let v1217 : BitVec 32 := Scalar.subi v274 c512_i32_740
  let v1218 : BitVec 32 := Scalar.maxsi c0_i32_741 v1217
  let v1219 : BitVec 32 := Scalar.minsi c256_i32_742 v1218
  let v1805 : BitVec 32 := Scalar.subi v1219 v1216
  let c1_i32_1196 : BitVec 32 := 1#32
  let v1807 : BitVec 32 := Scalar.divsi v1805 c1_i32_1196
  let v1808 : BitVec 32 := Scalar.muli v1807 c1_i32_1196
  let v1809 : BitVec 32 := Scalar.addi v1216 v1808
  let v1806 : BitVec 32 := Scalar.addi v1216 v1805
  let c1_i32_1198 : BitVec 32 := 1#32
  ⟨v1809, v1806, c1_i32_1198⟩
def k1_off519 (i : grid1.Coords) (v266 : BitVec 32) (v271 : BitVec 32) (k1_t130 : Fin (k1_t130_loop i v266 v271).trips) : Fin 2 → Nat :=
  let c256_i32_739 : BitVec 32 := 256#32
  let c0_i32_738 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let c256_i32_742 : BitVec 32 := 256#32
  let c0_i32_741 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c512_i32_740 : BitVec 32 := 512#32
  let v1217 : BitVec 32 := Scalar.subi v274 c512_i32_740
  let v1218 : BitVec 32 := Scalar.maxsi c0_i32_741 v1217
  let v1219 : BitVec 32 := Scalar.minsi c256_i32_742 v1218
  let v1805 : BitVec 32 := Scalar.subi v1219 v1216
  let c1_i32_1196 : BitVec 32 := 1#32
  let v1807 : BitVec 32 := Scalar.divsi v1805 c1_i32_1196
  let v1808 : BitVec 32 := Scalar.muli v1807 c1_i32_1196
  let v1809 : BitVec 32 := Scalar.addi v1216 v1808
  let c1_i32_1198 : BitVec 32 := 1#32
  let arg13 : BitVec 32 := Scf.iv v1809 c1_i32_1198 k1_t130
  let v1828 : Index := Scalar.indexCast arg13
  let c0_1207 : Index := 0#32
  ![v1828.toNat, 0]
def k1_off520 (i : grid1.Coords) (v266 : BitVec 32) (v271 : BitVec 32) (k1_t130 : Fin (k1_t130_loop i v266 v271).trips) : Fin 2 → Nat :=
  let c256_i32_739 : BitVec 32 := 256#32
  let c0_i32_738 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let c256_i32_742 : BitVec 32 := 256#32
  let c0_i32_741 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c512_i32_740 : BitVec 32 := 512#32
  let v1217 : BitVec 32 := Scalar.subi v274 c512_i32_740
  let v1218 : BitVec 32 := Scalar.maxsi c0_i32_741 v1217
  let v1219 : BitVec 32 := Scalar.minsi c256_i32_742 v1218
  let v1805 : BitVec 32 := Scalar.subi v1219 v1216
  let c1_i32_1196 : BitVec 32 := 1#32
  let v1807 : BitVec 32 := Scalar.divsi v1805 c1_i32_1196
  let v1808 : BitVec 32 := Scalar.muli v1807 c1_i32_1196
  let v1809 : BitVec 32 := Scalar.addi v1216 v1808
  let c1_i32_1198 : BitVec 32 := 1#32
  let arg13 : BitVec 32 := Scf.iv v1809 c1_i32_1198 k1_t130
  let v1832 : Index := Scalar.indexCast arg13
  let c16_1208 : Index := 16#32
  ![v1832.toNat, 16]
def k1_off521 (i : grid1.Coords) (v266 : BitVec 32) (v271 : BitVec 32) (k1_t130 : Fin (k1_t130_loop i v266 v271).trips) : Fin 2 → Nat :=
  let c256_i32_739 : BitVec 32 := 256#32
  let c0_i32_738 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let c256_i32_742 : BitVec 32 := 256#32
  let c0_i32_741 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c512_i32_740 : BitVec 32 := 512#32
  let v1217 : BitVec 32 := Scalar.subi v274 c512_i32_740
  let v1218 : BitVec 32 := Scalar.maxsi c0_i32_741 v1217
  let v1219 : BitVec 32 := Scalar.minsi c256_i32_742 v1218
  let v1805 : BitVec 32 := Scalar.subi v1219 v1216
  let c1_i32_1196 : BitVec 32 := 1#32
  let v1807 : BitVec 32 := Scalar.divsi v1805 c1_i32_1196
  let v1808 : BitVec 32 := Scalar.muli v1807 c1_i32_1196
  let v1809 : BitVec 32 := Scalar.addi v1216 v1808
  let c1_i32_1198 : BitVec 32 := 1#32
  let arg13 : BitVec 32 := Scf.iv v1809 c1_i32_1198 k1_t130
  let v1836 : Index := Scalar.indexCast arg13
  let c32_1209 : Index := 32#32
  ![v1836.toNat, 32]
def k1_off522 (i : grid1.Coords) (v266 : BitVec 32) (v271 : BitVec 32) (k1_t130 : Fin (k1_t130_loop i v266 v271).trips) : Fin 2 → Nat :=
  let c256_i32_739 : BitVec 32 := 256#32
  let c0_i32_738 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c512_i32_737 : BitVec 32 := 512#32
  let v1214 : BitVec 32 := Scalar.subi v269 c512_i32_737
  let v1215 : BitVec 32 := Scalar.maxsi c0_i32_738 v1214
  let v1216 : BitVec 32 := Scalar.minsi c256_i32_739 v1215
  let c256_i32_742 : BitVec 32 := 256#32
  let c0_i32_741 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c512_i32_740 : BitVec 32 := 512#32
  let v1217 : BitVec 32 := Scalar.subi v274 c512_i32_740
  let v1218 : BitVec 32 := Scalar.maxsi c0_i32_741 v1217
  let v1219 : BitVec 32 := Scalar.minsi c256_i32_742 v1218
  let v1805 : BitVec 32 := Scalar.subi v1219 v1216
  let c1_i32_1196 : BitVec 32 := 1#32
  let v1807 : BitVec 32 := Scalar.divsi v1805 c1_i32_1196
  let v1808 : BitVec 32 := Scalar.muli v1807 c1_i32_1196
  let v1809 : BitVec 32 := Scalar.addi v1216 v1808
  let c1_i32_1198 : BitVec 32 := 1#32
  let arg13 : BitVec 32 := Scf.iv v1809 c1_i32_1198 k1_t130
  let v1840 : Index := Scalar.indexCast arg13
  let c48_1210 : Index := 48#32
  ![v1840.toNat, 48]
@[reducible] def k1_t131_loop (i : grid1.Coords) (v276 : BitVec 32) (v282 : BitVec 32) : Scf.Loop 32 :=
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let c256_i32_749 : BitVec 32 := 256#32
  let c0_i32_748 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c512_i32_747 : BitVec 32 := 512#32
  let v1226 : BitVec 32 := Scalar.subi v286 c512_i32_747
  let v1227 : BitVec 32 := Scalar.maxsi c0_i32_748 v1226
  let v1228 : BitVec 32 := Scalar.minsi c256_i32_749 v1227
  let v1805 : BitVec 32 := Scalar.subi v1228 v1225
  let c1_i32_1196 : BitVec 32 := 1#32
  let v1807 : BitVec 32 := Scalar.divsi v1805 c1_i32_1196
  let v1808 : BitVec 32 := Scalar.muli v1807 c1_i32_1196
  let v1809 : BitVec 32 := Scalar.addi v1225 v1808
  let c1_i32_1197 : BitVec 32 := 1#32
  ⟨v1225, v1809, c1_i32_1197⟩
def k1_cond66 (i : grid1.Coords) (v276 : BitVec 32) (v282 : BitVec 32) : BitVec 1 :=
  let c256_i32_749 : BitVec 32 := 256#32
  let c0_i32_748 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v284 : BitVec 32 := Scalar.subi v283 v3
  let v285 : BitVec 32 := Scalar.maxsi c0_i32_119 v284
  let v286 : BitVec 32 := Scalar.minsi c1024_i32_120 v285
  let c512_i32_747 : BitVec 32 := 512#32
  let v1226 : BitVec 32 := Scalar.subi v286 c512_i32_747
  let v1227 : BitVec 32 := Scalar.maxsi c0_i32_748 v1226
  let v1228 : BitVec 32 := Scalar.minsi c256_i32_749 v1227
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let v1229 : BitVec 1 := Scalar.cmpi .sgt v1228 v1225
  let v1230 : BitVec 32 := Scalar.extui v1229
  let c0_i32_750 : BitVec 32 := 0#32
  let v1231 : BitVec 1 := Scalar.cmpi .ne v1230 c0_i32_750
  v1231

def k1_off523 (i : grid1.Coords) (v276 : BitVec 32) (v282 : BitVec 32) (k1_t131 : Fin (k1_t131_loop i v276 v282).trips) : Fin 2 → Nat :=
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let c1_i32_1197 : BitVec 32 := 1#32
  let arg13 : BitVec 32 := Scf.iv v1225 c1_i32_1197 k1_t131
  let v1828 : Index := Scalar.indexCast arg13
  let c64 : Index := 64#32
  ![v1828.toNat, 64]
def k1_off524 (i : grid1.Coords) (v276 : BitVec 32) (v282 : BitVec 32) (k1_t131 : Fin (k1_t131_loop i v276 v282).trips) : Fin 2 → Nat :=
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let c1_i32_1197 : BitVec 32 := 1#32
  let arg13 : BitVec 32 := Scf.iv v1225 c1_i32_1197 k1_t131
  let v1832 : Index := Scalar.indexCast arg13
  let c80 : Index := 80#32
  ![v1832.toNat, 80]
def k1_off525 (i : grid1.Coords) (v276 : BitVec 32) (v282 : BitVec 32) (k1_t131 : Fin (k1_t131_loop i v276 v282).trips) : Fin 2 → Nat :=
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let c1_i32_1197 : BitVec 32 := 1#32
  let arg13 : BitVec 32 := Scf.iv v1225 c1_i32_1197 k1_t131
  let v1836 : Index := Scalar.indexCast arg13
  let c96 : Index := 96#32
  ![v1836.toNat, 96]
def k1_off526 (i : grid1.Coords) (v276 : BitVec 32) (v282 : BitVec 32) (k1_t131 : Fin (k1_t131_loop i v276 v282).trips) : Fin 2 → Nat :=
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let c1_i32_1197 : BitVec 32 := 1#32
  let arg13 : BitVec 32 := Scf.iv v1225 c1_i32_1197 k1_t131
  let v1840 : Index := Scalar.indexCast arg13
  let c112 : Index := 112#32
  ![v1840.toNat, 112]
@[reducible] def k1_t132_loop (i : grid1.Coords) (v276 : BitVec 32) (v282 : BitVec 32) : Scf.Loop 32 :=
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let c256_i32_749 : BitVec 32 := 256#32
  let c0_i32_748 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c512_i32_747 : BitVec 32 := 512#32
  let v1226 : BitVec 32 := Scalar.subi v286 c512_i32_747
  let v1227 : BitVec 32 := Scalar.maxsi c0_i32_748 v1226
  let v1228 : BitVec 32 := Scalar.minsi c256_i32_749 v1227
  let v1805 : BitVec 32 := Scalar.subi v1228 v1225
  let c1_i32_1196 : BitVec 32 := 1#32
  let v1807 : BitVec 32 := Scalar.divsi v1805 c1_i32_1196
  let v1808 : BitVec 32 := Scalar.muli v1807 c1_i32_1196
  let v1809 : BitVec 32 := Scalar.addi v1225 v1808
  let v1806 : BitVec 32 := Scalar.addi v1225 v1805
  let c1_i32_1198 : BitVec 32 := 1#32
  ⟨v1809, v1806, c1_i32_1198⟩
def k1_off527 (i : grid1.Coords) (v276 : BitVec 32) (v282 : BitVec 32) (k1_t132 : Fin (k1_t132_loop i v276 v282).trips) : Fin 2 → Nat :=
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let c256_i32_749 : BitVec 32 := 256#32
  let c0_i32_748 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c512_i32_747 : BitVec 32 := 512#32
  let v1226 : BitVec 32 := Scalar.subi v286 c512_i32_747
  let v1227 : BitVec 32 := Scalar.maxsi c0_i32_748 v1226
  let v1228 : BitVec 32 := Scalar.minsi c256_i32_749 v1227
  let v1805 : BitVec 32 := Scalar.subi v1228 v1225
  let c1_i32_1196 : BitVec 32 := 1#32
  let v1807 : BitVec 32 := Scalar.divsi v1805 c1_i32_1196
  let v1808 : BitVec 32 := Scalar.muli v1807 c1_i32_1196
  let v1809 : BitVec 32 := Scalar.addi v1225 v1808
  let c1_i32_1198 : BitVec 32 := 1#32
  let arg13 : BitVec 32 := Scf.iv v1809 c1_i32_1198 k1_t132
  let v1828 : Index := Scalar.indexCast arg13
  let c64 : Index := 64#32
  ![v1828.toNat, 64]
def k1_off528 (i : grid1.Coords) (v276 : BitVec 32) (v282 : BitVec 32) (k1_t132 : Fin (k1_t132_loop i v276 v282).trips) : Fin 2 → Nat :=
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let c256_i32_749 : BitVec 32 := 256#32
  let c0_i32_748 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c512_i32_747 : BitVec 32 := 512#32
  let v1226 : BitVec 32 := Scalar.subi v286 c512_i32_747
  let v1227 : BitVec 32 := Scalar.maxsi c0_i32_748 v1226
  let v1228 : BitVec 32 := Scalar.minsi c256_i32_749 v1227
  let v1805 : BitVec 32 := Scalar.subi v1228 v1225
  let c1_i32_1196 : BitVec 32 := 1#32
  let v1807 : BitVec 32 := Scalar.divsi v1805 c1_i32_1196
  let v1808 : BitVec 32 := Scalar.muli v1807 c1_i32_1196
  let v1809 : BitVec 32 := Scalar.addi v1225 v1808
  let c1_i32_1198 : BitVec 32 := 1#32
  let arg13 : BitVec 32 := Scf.iv v1809 c1_i32_1198 k1_t132
  let v1832 : Index := Scalar.indexCast arg13
  let c80 : Index := 80#32
  ![v1832.toNat, 80]
def k1_off529 (i : grid1.Coords) (v276 : BitVec 32) (v282 : BitVec 32) (k1_t132 : Fin (k1_t132_loop i v276 v282).trips) : Fin 2 → Nat :=
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let c256_i32_749 : BitVec 32 := 256#32
  let c0_i32_748 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c512_i32_747 : BitVec 32 := 512#32
  let v1226 : BitVec 32 := Scalar.subi v286 c512_i32_747
  let v1227 : BitVec 32 := Scalar.maxsi c0_i32_748 v1226
  let v1228 : BitVec 32 := Scalar.minsi c256_i32_749 v1227
  let v1805 : BitVec 32 := Scalar.subi v1228 v1225
  let c1_i32_1196 : BitVec 32 := 1#32
  let v1807 : BitVec 32 := Scalar.divsi v1805 c1_i32_1196
  let v1808 : BitVec 32 := Scalar.muli v1807 c1_i32_1196
  let v1809 : BitVec 32 := Scalar.addi v1225 v1808
  let c1_i32_1198 : BitVec 32 := 1#32
  let arg13 : BitVec 32 := Scf.iv v1809 c1_i32_1198 k1_t132
  let v1836 : Index := Scalar.indexCast arg13
  let c96 : Index := 96#32
  ![v1836.toNat, 96]
def k1_off530 (i : grid1.Coords) (v276 : BitVec 32) (v282 : BitVec 32) (k1_t132 : Fin (k1_t132_loop i v276 v282).trips) : Fin 2 → Nat :=
  let c256_i32_746 : BitVec 32 := 256#32
  let c0_i32_745 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c512_i32_744 : BitVec 32 := 512#32
  let v1223 : BitVec 32 := Scalar.subi v280 c512_i32_744
  let v1224 : BitVec 32 := Scalar.maxsi c0_i32_745 v1223
  let v1225 : BitVec 32 := Scalar.minsi c256_i32_746 v1224
  let c256_i32_749 : BitVec 32 := 256#32
  let c0_i32_748 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c512_i32_747 : BitVec 32 := 512#32
  let v1226 : BitVec 32 := Scalar.subi v286 c512_i32_747
  let v1227 : BitVec 32 := Scalar.maxsi c0_i32_748 v1226
  let v1228 : BitVec 32 := Scalar.minsi c256_i32_749 v1227
  let v1805 : BitVec 32 := Scalar.subi v1228 v1225
  let c1_i32_1196 : BitVec 32 := 1#32
  let v1807 : BitVec 32 := Scalar.divsi v1805 c1_i32_1196
  let v1808 : BitVec 32 := Scalar.muli v1807 c1_i32_1196
  let v1809 : BitVec 32 := Scalar.addi v1225 v1808
  let c1_i32_1198 : BitVec 32 := 1#32
  let arg13 : BitVec 32 := Scf.iv v1809 c1_i32_1198 k1_t132
  let v1840 : Index := Scalar.indexCast arg13
  let c112 : Index := 112#32
  ![v1840.toNat, 112]
@[reducible] def k1_t133_loop (i : grid1.Coords) (v288 : BitVec 32) (v293 : BitVec 32) : Scf.Loop 32 :=
  let c256_i32_753 : BitVec 32 := 256#32
  let c0_i32_752 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let c256_i32_756 : BitVec 32 := 256#32
  let c0_i32_755 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c512_i32_754 : BitVec 32 := 512#32
  let v1235 : BitVec 32 := Scalar.subi v296 c512_i32_754
  let v1236 : BitVec 32 := Scalar.maxsi c0_i32_755 v1235
  let v1237 : BitVec 32 := Scalar.minsi c256_i32_756 v1236
  let v1805 : BitVec 32 := Scalar.subi v1237 v1234
  let c1_i32_1196 : BitVec 32 := 1#32
  let v1807 : BitVec 32 := Scalar.divsi v1805 c1_i32_1196
  let v1808 : BitVec 32 := Scalar.muli v1807 c1_i32_1196
  let v1809 : BitVec 32 := Scalar.addi v1234 v1808
  let c1_i32_1197 : BitVec 32 := 1#32
  ⟨v1234, v1809, c1_i32_1197⟩
def k1_cond67 (i : grid1.Coords) (v288 : BitVec 32) (v293 : BitVec 32) : BitVec 1 :=
  let c256_i32_756 : BitVec 32 := 256#32
  let c0_i32_755 : BitVec 32 := 0#32
  let c1024_i32_124 : BitVec 32 := 1024#32
  let c0_i32_123 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v294 : BitVec 32 := Scalar.subi v293 v3
  let v295 : BitVec 32 := Scalar.maxsi c0_i32_123 v294
  let v296 : BitVec 32 := Scalar.minsi c1024_i32_124 v295
  let c512_i32_754 : BitVec 32 := 512#32
  let v1235 : BitVec 32 := Scalar.subi v296 c512_i32_754
  let v1236 : BitVec 32 := Scalar.maxsi c0_i32_755 v1235
  let v1237 : BitVec 32 := Scalar.minsi c256_i32_756 v1236
  let c256_i32_753 : BitVec 32 := 256#32
  let c0_i32_752 : BitVec 32 := 0#32
  let c1024_i32_122 : BitVec 32 := 1024#32
  let c0_i32_121 : BitVec 32 := 0#32
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let v1238 : BitVec 1 := Scalar.cmpi .sgt v1237 v1234
  let v1239 : BitVec 32 := Scalar.extui v1238
  let c0_i32_757 : BitVec 32 := 0#32
  let v1240 : BitVec 1 := Scalar.cmpi .ne v1239 c0_i32_757
  v1240

def k1_off531 (i : grid1.Coords) (v288 : BitVec 32) (v293 : BitVec 32) (k1_t133 : Fin (k1_t133_loop i v288 v293).trips) : Fin 2 → Nat :=
  let c256_i32_753 : BitVec 32 := 256#32
  let c0_i32_752 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let c1_i32_1197 : BitVec 32 := 1#32
  let arg13 : BitVec 32 := Scf.iv v1234 c1_i32_1197 k1_t133
  let v1828 : Index := Scalar.indexCast arg13
  let c0_1207 : Index := 0#32
  ![v1828.toNat, 0]
def k1_off532 (i : grid1.Coords) (v288 : BitVec 32) (v293 : BitVec 32) (k1_t133 : Fin (k1_t133_loop i v288 v293).trips) : Fin 2 → Nat :=
  let c256_i32_753 : BitVec 32 := 256#32
  let c0_i32_752 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let c1_i32_1197 : BitVec 32 := 1#32
  let arg13 : BitVec 32 := Scf.iv v1234 c1_i32_1197 k1_t133
  let v1832 : Index := Scalar.indexCast arg13
  let c16_1208 : Index := 16#32
  ![v1832.toNat, 16]
def k1_off533 (i : grid1.Coords) (v288 : BitVec 32) (v293 : BitVec 32) (k1_t133 : Fin (k1_t133_loop i v288 v293).trips) : Fin 2 → Nat :=
  let c256_i32_753 : BitVec 32 := 256#32
  let c0_i32_752 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let c1_i32_1197 : BitVec 32 := 1#32
  let arg13 : BitVec 32 := Scf.iv v1234 c1_i32_1197 k1_t133
  let v1836 : Index := Scalar.indexCast arg13
  let c32_1209 : Index := 32#32
  ![v1836.toNat, 32]
def k1_off534 (i : grid1.Coords) (v288 : BitVec 32) (v293 : BitVec 32) (k1_t133 : Fin (k1_t133_loop i v288 v293).trips) : Fin 2 → Nat :=
  let c256_i32_753 : BitVec 32 := 256#32
  let c0_i32_752 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let c1_i32_1197 : BitVec 32 := 1#32
  let arg13 : BitVec 32 := Scf.iv v1234 c1_i32_1197 k1_t133
  let v1840 : Index := Scalar.indexCast arg13
  let c48_1210 : Index := 48#32
  ![v1840.toNat, 48]
@[reducible] def k1_t134_loop (i : grid1.Coords) (v288 : BitVec 32) (v293 : BitVec 32) : Scf.Loop 32 :=
  let c256_i32_753 : BitVec 32 := 256#32
  let c0_i32_752 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let c256_i32_756 : BitVec 32 := 256#32
  let c0_i32_755 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c512_i32_754 : BitVec 32 := 512#32
  let v1235 : BitVec 32 := Scalar.subi v296 c512_i32_754
  let v1236 : BitVec 32 := Scalar.maxsi c0_i32_755 v1235
  let v1237 : BitVec 32 := Scalar.minsi c256_i32_756 v1236
  let v1805 : BitVec 32 := Scalar.subi v1237 v1234
  let c1_i32_1196 : BitVec 32 := 1#32
  let v1807 : BitVec 32 := Scalar.divsi v1805 c1_i32_1196
  let v1808 : BitVec 32 := Scalar.muli v1807 c1_i32_1196
  let v1809 : BitVec 32 := Scalar.addi v1234 v1808
  let v1806 : BitVec 32 := Scalar.addi v1234 v1805
  let c1_i32_1198 : BitVec 32 := 1#32
  ⟨v1809, v1806, c1_i32_1198⟩
def k1_off535 (i : grid1.Coords) (v288 : BitVec 32) (v293 : BitVec 32) (k1_t134 : Fin (k1_t134_loop i v288 v293).trips) : Fin 2 → Nat :=
  let c256_i32_753 : BitVec 32 := 256#32
  let c0_i32_752 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let c256_i32_756 : BitVec 32 := 256#32
  let c0_i32_755 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c512_i32_754 : BitVec 32 := 512#32
  let v1235 : BitVec 32 := Scalar.subi v296 c512_i32_754
  let v1236 : BitVec 32 := Scalar.maxsi c0_i32_755 v1235
  let v1237 : BitVec 32 := Scalar.minsi c256_i32_756 v1236
  let v1805 : BitVec 32 := Scalar.subi v1237 v1234
  let c1_i32_1196 : BitVec 32 := 1#32
  let v1807 : BitVec 32 := Scalar.divsi v1805 c1_i32_1196
  let v1808 : BitVec 32 := Scalar.muli v1807 c1_i32_1196
  let v1809 : BitVec 32 := Scalar.addi v1234 v1808
  let c1_i32_1198 : BitVec 32 := 1#32
  let arg13 : BitVec 32 := Scf.iv v1809 c1_i32_1198 k1_t134
  let v1828 : Index := Scalar.indexCast arg13
  let c0_1207 : Index := 0#32
  ![v1828.toNat, 0]
def k1_off536 (i : grid1.Coords) (v288 : BitVec 32) (v293 : BitVec 32) (k1_t134 : Fin (k1_t134_loop i v288 v293).trips) : Fin 2 → Nat :=
  let c256_i32_753 : BitVec 32 := 256#32
  let c0_i32_752 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let c256_i32_756 : BitVec 32 := 256#32
  let c0_i32_755 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c512_i32_754 : BitVec 32 := 512#32
  let v1235 : BitVec 32 := Scalar.subi v296 c512_i32_754
  let v1236 : BitVec 32 := Scalar.maxsi c0_i32_755 v1235
  let v1237 : BitVec 32 := Scalar.minsi c256_i32_756 v1236
  let v1805 : BitVec 32 := Scalar.subi v1237 v1234
  let c1_i32_1196 : BitVec 32 := 1#32
  let v1807 : BitVec 32 := Scalar.divsi v1805 c1_i32_1196
  let v1808 : BitVec 32 := Scalar.muli v1807 c1_i32_1196
  let v1809 : BitVec 32 := Scalar.addi v1234 v1808
  let c1_i32_1198 : BitVec 32 := 1#32
  let arg13 : BitVec 32 := Scf.iv v1809 c1_i32_1198 k1_t134
  let v1832 : Index := Scalar.indexCast arg13
  let c16_1208 : Index := 16#32
  ![v1832.toNat, 16]
def k1_off537 (i : grid1.Coords) (v288 : BitVec 32) (v293 : BitVec 32) (k1_t134 : Fin (k1_t134_loop i v288 v293).trips) : Fin 2 → Nat :=
  let c256_i32_753 : BitVec 32 := 256#32
  let c0_i32_752 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let c256_i32_756 : BitVec 32 := 256#32
  let c0_i32_755 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c512_i32_754 : BitVec 32 := 512#32
  let v1235 : BitVec 32 := Scalar.subi v296 c512_i32_754
  let v1236 : BitVec 32 := Scalar.maxsi c0_i32_755 v1235
  let v1237 : BitVec 32 := Scalar.minsi c256_i32_756 v1236
  let v1805 : BitVec 32 := Scalar.subi v1237 v1234
  let c1_i32_1196 : BitVec 32 := 1#32
  let v1807 : BitVec 32 := Scalar.divsi v1805 c1_i32_1196
  let v1808 : BitVec 32 := Scalar.muli v1807 c1_i32_1196
  let v1809 : BitVec 32 := Scalar.addi v1234 v1808
  let c1_i32_1198 : BitVec 32 := 1#32
  let arg13 : BitVec 32 := Scf.iv v1809 c1_i32_1198 k1_t134
  let v1836 : Index := Scalar.indexCast arg13
  let c32_1209 : Index := 32#32
  ![v1836.toNat, 32]
def k1_off538 (i : grid1.Coords) (v288 : BitVec 32) (v293 : BitVec 32) (k1_t134 : Fin (k1_t134_loop i v288 v293).trips) : Fin 2 → Nat :=
  let c256_i32_753 : BitVec 32 := 256#32
  let c0_i32_752 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c512_i32_751 : BitVec 32 := 512#32
  let v1232 : BitVec 32 := Scalar.subi v291 c512_i32_751
  let v1233 : BitVec 32 := Scalar.maxsi c0_i32_752 v1232
  let v1234 : BitVec 32 := Scalar.minsi c256_i32_753 v1233
  let c256_i32_756 : BitVec 32 := 256#32
  let c0_i32_755 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c512_i32_754 : BitVec 32 := 512#32
  let v1235 : BitVec 32 := Scalar.subi v296 c512_i32_754
  let v1236 : BitVec 32 := Scalar.maxsi c0_i32_755 v1235
  let v1237 : BitVec 32 := Scalar.minsi c256_i32_756 v1236
  let v1805 : BitVec 32 := Scalar.subi v1237 v1234
  let c1_i32_1196 : BitVec 32 := 1#32
  let v1807 : BitVec 32 := Scalar.divsi v1805 c1_i32_1196
  let v1808 : BitVec 32 := Scalar.muli v1807 c1_i32_1196
  let v1809 : BitVec 32 := Scalar.addi v1234 v1808
  let c1_i32_1198 : BitVec 32 := 1#32
  let arg13 : BitVec 32 := Scf.iv v1809 c1_i32_1198 k1_t134
  let v1840 : Index := Scalar.indexCast arg13
  let c48_1210 : Index := 48#32
  ![v1840.toNat, 48]
@[reducible] def k1_t135_loop (i : grid1.Coords) (v298 : BitVec 32) (v304 : BitVec 32) : Scf.Loop 32 :=
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let c256_i32_763 : BitVec 32 := 256#32
  let c0_i32_762 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c512_i32_761 : BitVec 32 := 512#32
  let v1244 : BitVec 32 := Scalar.subi v308 c512_i32_761
  let v1245 : BitVec 32 := Scalar.maxsi c0_i32_762 v1244
  let v1246 : BitVec 32 := Scalar.minsi c256_i32_763 v1245
  let v1805 : BitVec 32 := Scalar.subi v1246 v1243
  let c1_i32_1196 : BitVec 32 := 1#32
  let v1807 : BitVec 32 := Scalar.divsi v1805 c1_i32_1196
  let v1808 : BitVec 32 := Scalar.muli v1807 c1_i32_1196
  let v1809 : BitVec 32 := Scalar.addi v1243 v1808
  let c1_i32_1197 : BitVec 32 := 1#32
  ⟨v1243, v1809, c1_i32_1197⟩
def k1_cond68 (i : grid1.Coords) (v298 : BitVec 32) (v304 : BitVec 32) : BitVec 1 :=
  let c256_i32_763 : BitVec 32 := 256#32
  let c0_i32_762 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v306 : BitVec 32 := Scalar.subi v305 v3
  let v307 : BitVec 32 := Scalar.maxsi c0_i32_129 v306
  let v308 : BitVec 32 := Scalar.minsi c1024_i32_130 v307
  let c512_i32_761 : BitVec 32 := 512#32
  let v1244 : BitVec 32 := Scalar.subi v308 c512_i32_761
  let v1245 : BitVec 32 := Scalar.maxsi c0_i32_762 v1244
  let v1246 : BitVec 32 := Scalar.minsi c256_i32_763 v1245
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let v1247 : BitVec 1 := Scalar.cmpi .sgt v1246 v1243
  let v1248 : BitVec 32 := Scalar.extui v1247
  let c0_i32_764 : BitVec 32 := 0#32
  let v1249 : BitVec 1 := Scalar.cmpi .ne v1248 c0_i32_764
  v1249

def k1_off539 (i : grid1.Coords) (v298 : BitVec 32) (v304 : BitVec 32) (k1_t135 : Fin (k1_t135_loop i v298 v304).trips) : Fin 2 → Nat :=
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let c1_i32_1197 : BitVec 32 := 1#32
  let arg13 : BitVec 32 := Scf.iv v1243 c1_i32_1197 k1_t135
  let v1828 : Index := Scalar.indexCast arg13
  let c64 : Index := 64#32
  ![v1828.toNat, 64]
def k1_off540 (i : grid1.Coords) (v298 : BitVec 32) (v304 : BitVec 32) (k1_t135 : Fin (k1_t135_loop i v298 v304).trips) : Fin 2 → Nat :=
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let c1_i32_1197 : BitVec 32 := 1#32
  let arg13 : BitVec 32 := Scf.iv v1243 c1_i32_1197 k1_t135
  let v1832 : Index := Scalar.indexCast arg13
  let c80 : Index := 80#32
  ![v1832.toNat, 80]
def k1_off541 (i : grid1.Coords) (v298 : BitVec 32) (v304 : BitVec 32) (k1_t135 : Fin (k1_t135_loop i v298 v304).trips) : Fin 2 → Nat :=
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let c1_i32_1197 : BitVec 32 := 1#32
  let arg13 : BitVec 32 := Scf.iv v1243 c1_i32_1197 k1_t135
  let v1836 : Index := Scalar.indexCast arg13
  let c96 : Index := 96#32
  ![v1836.toNat, 96]
def k1_off542 (i : grid1.Coords) (v298 : BitVec 32) (v304 : BitVec 32) (k1_t135 : Fin (k1_t135_loop i v298 v304).trips) : Fin 2 → Nat :=
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let c1_i32_1197 : BitVec 32 := 1#32
  let arg13 : BitVec 32 := Scf.iv v1243 c1_i32_1197 k1_t135
  let v1840 : Index := Scalar.indexCast arg13
  let c112 : Index := 112#32
  ![v1840.toNat, 112]
@[reducible] def k1_t136_loop (i : grid1.Coords) (v298 : BitVec 32) (v304 : BitVec 32) : Scf.Loop 32 :=
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let c256_i32_763 : BitVec 32 := 256#32
  let c0_i32_762 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c512_i32_761 : BitVec 32 := 512#32
  let v1244 : BitVec 32 := Scalar.subi v308 c512_i32_761
  let v1245 : BitVec 32 := Scalar.maxsi c0_i32_762 v1244
  let v1246 : BitVec 32 := Scalar.minsi c256_i32_763 v1245
  let v1805 : BitVec 32 := Scalar.subi v1246 v1243
  let c1_i32_1196 : BitVec 32 := 1#32
  let v1807 : BitVec 32 := Scalar.divsi v1805 c1_i32_1196
  let v1808 : BitVec 32 := Scalar.muli v1807 c1_i32_1196
  let v1809 : BitVec 32 := Scalar.addi v1243 v1808
  let v1806 : BitVec 32 := Scalar.addi v1243 v1805
  let c1_i32_1198 : BitVec 32 := 1#32
  ⟨v1809, v1806, c1_i32_1198⟩
def k1_off543 (i : grid1.Coords) (v298 : BitVec 32) (v304 : BitVec 32) (k1_t136 : Fin (k1_t136_loop i v298 v304).trips) : Fin 2 → Nat :=
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let c256_i32_763 : BitVec 32 := 256#32
  let c0_i32_762 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c512_i32_761 : BitVec 32 := 512#32
  let v1244 : BitVec 32 := Scalar.subi v308 c512_i32_761
  let v1245 : BitVec 32 := Scalar.maxsi c0_i32_762 v1244
  let v1246 : BitVec 32 := Scalar.minsi c256_i32_763 v1245
  let v1805 : BitVec 32 := Scalar.subi v1246 v1243
  let c1_i32_1196 : BitVec 32 := 1#32
  let v1807 : BitVec 32 := Scalar.divsi v1805 c1_i32_1196
  let v1808 : BitVec 32 := Scalar.muli v1807 c1_i32_1196
  let v1809 : BitVec 32 := Scalar.addi v1243 v1808
  let c1_i32_1198 : BitVec 32 := 1#32
  let arg13 : BitVec 32 := Scf.iv v1809 c1_i32_1198 k1_t136
  let v1828 : Index := Scalar.indexCast arg13
  let c64 : Index := 64#32
  ![v1828.toNat, 64]
def k1_off544 (i : grid1.Coords) (v298 : BitVec 32) (v304 : BitVec 32) (k1_t136 : Fin (k1_t136_loop i v298 v304).trips) : Fin 2 → Nat :=
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let c256_i32_763 : BitVec 32 := 256#32
  let c0_i32_762 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c512_i32_761 : BitVec 32 := 512#32
  let v1244 : BitVec 32 := Scalar.subi v308 c512_i32_761
  let v1245 : BitVec 32 := Scalar.maxsi c0_i32_762 v1244
  let v1246 : BitVec 32 := Scalar.minsi c256_i32_763 v1245
  let v1805 : BitVec 32 := Scalar.subi v1246 v1243
  let c1_i32_1196 : BitVec 32 := 1#32
  let v1807 : BitVec 32 := Scalar.divsi v1805 c1_i32_1196
  let v1808 : BitVec 32 := Scalar.muli v1807 c1_i32_1196
  let v1809 : BitVec 32 := Scalar.addi v1243 v1808
  let c1_i32_1198 : BitVec 32 := 1#32
  let arg13 : BitVec 32 := Scf.iv v1809 c1_i32_1198 k1_t136
  let v1832 : Index := Scalar.indexCast arg13
  let c80 : Index := 80#32
  ![v1832.toNat, 80]
def k1_off545 (i : grid1.Coords) (v298 : BitVec 32) (v304 : BitVec 32) (k1_t136 : Fin (k1_t136_loop i v298 v304).trips) : Fin 2 → Nat :=
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let c256_i32_763 : BitVec 32 := 256#32
  let c0_i32_762 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c512_i32_761 : BitVec 32 := 512#32
  let v1244 : BitVec 32 := Scalar.subi v308 c512_i32_761
  let v1245 : BitVec 32 := Scalar.maxsi c0_i32_762 v1244
  let v1246 : BitVec 32 := Scalar.minsi c256_i32_763 v1245
  let v1805 : BitVec 32 := Scalar.subi v1246 v1243
  let c1_i32_1196 : BitVec 32 := 1#32
  let v1807 : BitVec 32 := Scalar.divsi v1805 c1_i32_1196
  let v1808 : BitVec 32 := Scalar.muli v1807 c1_i32_1196
  let v1809 : BitVec 32 := Scalar.addi v1243 v1808
  let c1_i32_1198 : BitVec 32 := 1#32
  let arg13 : BitVec 32 := Scf.iv v1809 c1_i32_1198 k1_t136
  let v1836 : Index := Scalar.indexCast arg13
  let c96 : Index := 96#32
  ![v1836.toNat, 96]
def k1_off546 (i : grid1.Coords) (v298 : BitVec 32) (v304 : BitVec 32) (k1_t136 : Fin (k1_t136_loop i v298 v304).trips) : Fin 2 → Nat :=
  let c256_i32_760 : BitVec 32 := 256#32
  let c0_i32_759 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c512_i32_758 : BitVec 32 := 512#32
  let v1241 : BitVec 32 := Scalar.subi v302 c512_i32_758
  let v1242 : BitVec 32 := Scalar.maxsi c0_i32_759 v1241
  let v1243 : BitVec 32 := Scalar.minsi c256_i32_760 v1242
  let c256_i32_763 : BitVec 32 := 256#32
  let c0_i32_762 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c512_i32_761 : BitVec 32 := 512#32
  let v1244 : BitVec 32 := Scalar.subi v308 c512_i32_761
  let v1245 : BitVec 32 := Scalar.maxsi c0_i32_762 v1244
  let v1246 : BitVec 32 := Scalar.minsi c256_i32_763 v1245
  let v1805 : BitVec 32 := Scalar.subi v1246 v1243
  let c1_i32_1196 : BitVec 32 := 1#32
  let v1807 : BitVec 32 := Scalar.divsi v1805 c1_i32_1196
  let v1808 : BitVec 32 := Scalar.muli v1807 c1_i32_1196
  let v1809 : BitVec 32 := Scalar.addi v1243 v1808
  let c1_i32_1198 : BitVec 32 := 1#32
  let arg13 : BitVec 32 := Scf.iv v1809 c1_i32_1198 k1_t136
  let v1840 : Index := Scalar.indexCast arg13
  let c112 : Index := 112#32
  ![v1840.toNat, 112]
@[reducible] def k1_t137_loop (i : grid1.Coords) (v310 : BitVec 32) (v315 : BitVec 32) : Scf.Loop 32 :=
  let c256_i32_767 : BitVec 32 := 256#32
  let c0_i32_766 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let c256_i32_770 : BitVec 32 := 256#32
  let c0_i32_769 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c512_i32_768 : BitVec 32 := 512#32
  let v1253 : BitVec 32 := Scalar.subi v318 c512_i32_768
  let v1254 : BitVec 32 := Scalar.maxsi c0_i32_769 v1253
  let v1255 : BitVec 32 := Scalar.minsi c256_i32_770 v1254
  let v1805 : BitVec 32 := Scalar.subi v1255 v1252
  let c1_i32_1196 : BitVec 32 := 1#32
  let v1807 : BitVec 32 := Scalar.divsi v1805 c1_i32_1196
  let v1808 : BitVec 32 := Scalar.muli v1807 c1_i32_1196
  let v1809 : BitVec 32 := Scalar.addi v1252 v1808
  let c1_i32_1197 : BitVec 32 := 1#32
  ⟨v1252, v1809, c1_i32_1197⟩
def k1_cond69 (i : grid1.Coords) (v310 : BitVec 32) (v315 : BitVec 32) : BitVec 1 :=
  let c256_i32_770 : BitVec 32 := 256#32
  let c0_i32_769 : BitVec 32 := 0#32
  let c1024_i32_134 : BitVec 32 := 1024#32
  let c0_i32_133 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v316 : BitVec 32 := Scalar.subi v315 v3
  let v317 : BitVec 32 := Scalar.maxsi c0_i32_133 v316
  let v318 : BitVec 32 := Scalar.minsi c1024_i32_134 v317
  let c512_i32_768 : BitVec 32 := 512#32
  let v1253 : BitVec 32 := Scalar.subi v318 c512_i32_768
  let v1254 : BitVec 32 := Scalar.maxsi c0_i32_769 v1253
  let v1255 : BitVec 32 := Scalar.minsi c256_i32_770 v1254
  let c256_i32_767 : BitVec 32 := 256#32
  let c0_i32_766 : BitVec 32 := 0#32
  let c1024_i32_132 : BitVec 32 := 1024#32
  let c0_i32_131 : BitVec 32 := 0#32
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let v1256 : BitVec 1 := Scalar.cmpi .sgt v1255 v1252
  let v1257 : BitVec 32 := Scalar.extui v1256
  let c0_i32_771 : BitVec 32 := 0#32
  let v1258 : BitVec 1 := Scalar.cmpi .ne v1257 c0_i32_771
  v1258

def k1_off547 (i : grid1.Coords) (v310 : BitVec 32) (v315 : BitVec 32) (k1_t137 : Fin (k1_t137_loop i v310 v315).trips) : Fin 2 → Nat :=
  let c256_i32_767 : BitVec 32 := 256#32
  let c0_i32_766 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let c1_i32_1197 : BitVec 32 := 1#32
  let arg13 : BitVec 32 := Scf.iv v1252 c1_i32_1197 k1_t137
  let v1828 : Index := Scalar.indexCast arg13
  let c0_1207 : Index := 0#32
  ![v1828.toNat, 0]
def k1_off548 (i : grid1.Coords) (v310 : BitVec 32) (v315 : BitVec 32) (k1_t137 : Fin (k1_t137_loop i v310 v315).trips) : Fin 2 → Nat :=
  let c256_i32_767 : BitVec 32 := 256#32
  let c0_i32_766 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let c1_i32_1197 : BitVec 32 := 1#32
  let arg13 : BitVec 32 := Scf.iv v1252 c1_i32_1197 k1_t137
  let v1832 : Index := Scalar.indexCast arg13
  let c16_1208 : Index := 16#32
  ![v1832.toNat, 16]
def k1_off549 (i : grid1.Coords) (v310 : BitVec 32) (v315 : BitVec 32) (k1_t137 : Fin (k1_t137_loop i v310 v315).trips) : Fin 2 → Nat :=
  let c256_i32_767 : BitVec 32 := 256#32
  let c0_i32_766 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let c1_i32_1197 : BitVec 32 := 1#32
  let arg13 : BitVec 32 := Scf.iv v1252 c1_i32_1197 k1_t137
  let v1836 : Index := Scalar.indexCast arg13
  let c32_1209 : Index := 32#32
  ![v1836.toNat, 32]
def k1_off550 (i : grid1.Coords) (v310 : BitVec 32) (v315 : BitVec 32) (k1_t137 : Fin (k1_t137_loop i v310 v315).trips) : Fin 2 → Nat :=
  let c256_i32_767 : BitVec 32 := 256#32
  let c0_i32_766 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let c1_i32_1197 : BitVec 32 := 1#32
  let arg13 : BitVec 32 := Scf.iv v1252 c1_i32_1197 k1_t137
  let v1840 : Index := Scalar.indexCast arg13
  let c48_1210 : Index := 48#32
  ![v1840.toNat, 48]
@[reducible] def k1_t138_loop (i : grid1.Coords) (v310 : BitVec 32) (v315 : BitVec 32) : Scf.Loop 32 :=
  let c256_i32_767 : BitVec 32 := 256#32
  let c0_i32_766 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let c256_i32_770 : BitVec 32 := 256#32
  let c0_i32_769 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c512_i32_768 : BitVec 32 := 512#32
  let v1253 : BitVec 32 := Scalar.subi v318 c512_i32_768
  let v1254 : BitVec 32 := Scalar.maxsi c0_i32_769 v1253
  let v1255 : BitVec 32 := Scalar.minsi c256_i32_770 v1254
  let v1805 : BitVec 32 := Scalar.subi v1255 v1252
  let c1_i32_1196 : BitVec 32 := 1#32
  let v1807 : BitVec 32 := Scalar.divsi v1805 c1_i32_1196
  let v1808 : BitVec 32 := Scalar.muli v1807 c1_i32_1196
  let v1809 : BitVec 32 := Scalar.addi v1252 v1808
  let v1806 : BitVec 32 := Scalar.addi v1252 v1805
  let c1_i32_1198 : BitVec 32 := 1#32
  ⟨v1809, v1806, c1_i32_1198⟩
def k1_off551 (i : grid1.Coords) (v310 : BitVec 32) (v315 : BitVec 32) (k1_t138 : Fin (k1_t138_loop i v310 v315).trips) : Fin 2 → Nat :=
  let c256_i32_767 : BitVec 32 := 256#32
  let c0_i32_766 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let c256_i32_770 : BitVec 32 := 256#32
  let c0_i32_769 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c512_i32_768 : BitVec 32 := 512#32
  let v1253 : BitVec 32 := Scalar.subi v318 c512_i32_768
  let v1254 : BitVec 32 := Scalar.maxsi c0_i32_769 v1253
  let v1255 : BitVec 32 := Scalar.minsi c256_i32_770 v1254
  let v1805 : BitVec 32 := Scalar.subi v1255 v1252
  let c1_i32_1196 : BitVec 32 := 1#32
  let v1807 : BitVec 32 := Scalar.divsi v1805 c1_i32_1196
  let v1808 : BitVec 32 := Scalar.muli v1807 c1_i32_1196
  let v1809 : BitVec 32 := Scalar.addi v1252 v1808
  let c1_i32_1198 : BitVec 32 := 1#32
  let arg13 : BitVec 32 := Scf.iv v1809 c1_i32_1198 k1_t138
  let v1828 : Index := Scalar.indexCast arg13
  let c0_1207 : Index := 0#32
  ![v1828.toNat, 0]
def k1_off552 (i : grid1.Coords) (v310 : BitVec 32) (v315 : BitVec 32) (k1_t138 : Fin (k1_t138_loop i v310 v315).trips) : Fin 2 → Nat :=
  let c256_i32_767 : BitVec 32 := 256#32
  let c0_i32_766 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let c256_i32_770 : BitVec 32 := 256#32
  let c0_i32_769 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c512_i32_768 : BitVec 32 := 512#32
  let v1253 : BitVec 32 := Scalar.subi v318 c512_i32_768
  let v1254 : BitVec 32 := Scalar.maxsi c0_i32_769 v1253
  let v1255 : BitVec 32 := Scalar.minsi c256_i32_770 v1254
  let v1805 : BitVec 32 := Scalar.subi v1255 v1252
  let c1_i32_1196 : BitVec 32 := 1#32
  let v1807 : BitVec 32 := Scalar.divsi v1805 c1_i32_1196
  let v1808 : BitVec 32 := Scalar.muli v1807 c1_i32_1196
  let v1809 : BitVec 32 := Scalar.addi v1252 v1808
  let c1_i32_1198 : BitVec 32 := 1#32
  let arg13 : BitVec 32 := Scf.iv v1809 c1_i32_1198 k1_t138
  let v1832 : Index := Scalar.indexCast arg13
  let c16_1208 : Index := 16#32
  ![v1832.toNat, 16]
def k1_off553 (i : grid1.Coords) (v310 : BitVec 32) (v315 : BitVec 32) (k1_t138 : Fin (k1_t138_loop i v310 v315).trips) : Fin 2 → Nat :=
  let c256_i32_767 : BitVec 32 := 256#32
  let c0_i32_766 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let c256_i32_770 : BitVec 32 := 256#32
  let c0_i32_769 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c512_i32_768 : BitVec 32 := 512#32
  let v1253 : BitVec 32 := Scalar.subi v318 c512_i32_768
  let v1254 : BitVec 32 := Scalar.maxsi c0_i32_769 v1253
  let v1255 : BitVec 32 := Scalar.minsi c256_i32_770 v1254
  let v1805 : BitVec 32 := Scalar.subi v1255 v1252
  let c1_i32_1196 : BitVec 32 := 1#32
  let v1807 : BitVec 32 := Scalar.divsi v1805 c1_i32_1196
  let v1808 : BitVec 32 := Scalar.muli v1807 c1_i32_1196
  let v1809 : BitVec 32 := Scalar.addi v1252 v1808
  let c1_i32_1198 : BitVec 32 := 1#32
  let arg13 : BitVec 32 := Scf.iv v1809 c1_i32_1198 k1_t138
  let v1836 : Index := Scalar.indexCast arg13
  let c32_1209 : Index := 32#32
  ![v1836.toNat, 32]
def k1_off554 (i : grid1.Coords) (v310 : BitVec 32) (v315 : BitVec 32) (k1_t138 : Fin (k1_t138_loop i v310 v315).trips) : Fin 2 → Nat :=
  let c256_i32_767 : BitVec 32 := 256#32
  let c0_i32_766 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c512_i32_765 : BitVec 32 := 512#32
  let v1250 : BitVec 32 := Scalar.subi v313 c512_i32_765
  let v1251 : BitVec 32 := Scalar.maxsi c0_i32_766 v1250
  let v1252 : BitVec 32 := Scalar.minsi c256_i32_767 v1251
  let c256_i32_770 : BitVec 32 := 256#32
  let c0_i32_769 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c512_i32_768 : BitVec 32 := 512#32
  let v1253 : BitVec 32 := Scalar.subi v318 c512_i32_768
  let v1254 : BitVec 32 := Scalar.maxsi c0_i32_769 v1253
  let v1255 : BitVec 32 := Scalar.minsi c256_i32_770 v1254
  let v1805 : BitVec 32 := Scalar.subi v1255 v1252
  let c1_i32_1196 : BitVec 32 := 1#32
  let v1807 : BitVec 32 := Scalar.divsi v1805 c1_i32_1196
  let v1808 : BitVec 32 := Scalar.muli v1807 c1_i32_1196
  let v1809 : BitVec 32 := Scalar.addi v1252 v1808
  let c1_i32_1198 : BitVec 32 := 1#32
  let arg13 : BitVec 32 := Scf.iv v1809 c1_i32_1198 k1_t138
  let v1840 : Index := Scalar.indexCast arg13
  let c48_1210 : Index := 48#32
  ![v1840.toNat, 48]
@[reducible] def k1_t139_loop (i : grid1.Coords) (v320 : BitVec 32) (v326 : BitVec 32) : Scf.Loop 32 :=
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let c256_i32_777 : BitVec 32 := 256#32
  let c0_i32_776 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c512_i32_775 : BitVec 32 := 512#32
  let v1262 : BitVec 32 := Scalar.subi v330 c512_i32_775
  let v1263 : BitVec 32 := Scalar.maxsi c0_i32_776 v1262
  let v1264 : BitVec 32 := Scalar.minsi c256_i32_777 v1263
  let v1805 : BitVec 32 := Scalar.subi v1264 v1261
  let c1_i32_1196 : BitVec 32 := 1#32
  let v1807 : BitVec 32 := Scalar.divsi v1805 c1_i32_1196
  let v1808 : BitVec 32 := Scalar.muli v1807 c1_i32_1196
  let v1809 : BitVec 32 := Scalar.addi v1261 v1808
  let c1_i32_1197 : BitVec 32 := 1#32
  ⟨v1261, v1809, c1_i32_1197⟩
def k1_cond70 (i : grid1.Coords) (v320 : BitVec 32) (v326 : BitVec 32) : BitVec 1 :=
  let c256_i32_777 : BitVec 32 := 256#32
  let c0_i32_776 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v328 : BitVec 32 := Scalar.subi v327 v3
  let v329 : BitVec 32 := Scalar.maxsi c0_i32_139 v328
  let v330 : BitVec 32 := Scalar.minsi c1024_i32_140 v329
  let c512_i32_775 : BitVec 32 := 512#32
  let v1262 : BitVec 32 := Scalar.subi v330 c512_i32_775
  let v1263 : BitVec 32 := Scalar.maxsi c0_i32_776 v1262
  let v1264 : BitVec 32 := Scalar.minsi c256_i32_777 v1263
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let v1265 : BitVec 1 := Scalar.cmpi .sgt v1264 v1261
  let v1266 : BitVec 32 := Scalar.extui v1265
  let c0_i32_778 : BitVec 32 := 0#32
  let v1267 : BitVec 1 := Scalar.cmpi .ne v1266 c0_i32_778
  v1267

def k1_off555 (i : grid1.Coords) (v320 : BitVec 32) (v326 : BitVec 32) (k1_t139 : Fin (k1_t139_loop i v320 v326).trips) : Fin 2 → Nat :=
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let c1_i32_1197 : BitVec 32 := 1#32
  let arg13 : BitVec 32 := Scf.iv v1261 c1_i32_1197 k1_t139
  let v1828 : Index := Scalar.indexCast arg13
  let c64 : Index := 64#32
  ![v1828.toNat, 64]
def k1_off556 (i : grid1.Coords) (v320 : BitVec 32) (v326 : BitVec 32) (k1_t139 : Fin (k1_t139_loop i v320 v326).trips) : Fin 2 → Nat :=
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let c1_i32_1197 : BitVec 32 := 1#32
  let arg13 : BitVec 32 := Scf.iv v1261 c1_i32_1197 k1_t139
  let v1832 : Index := Scalar.indexCast arg13
  let c80 : Index := 80#32
  ![v1832.toNat, 80]
def k1_off557 (i : grid1.Coords) (v320 : BitVec 32) (v326 : BitVec 32) (k1_t139 : Fin (k1_t139_loop i v320 v326).trips) : Fin 2 → Nat :=
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let c1_i32_1197 : BitVec 32 := 1#32
  let arg13 : BitVec 32 := Scf.iv v1261 c1_i32_1197 k1_t139
  let v1836 : Index := Scalar.indexCast arg13
  let c96 : Index := 96#32
  ![v1836.toNat, 96]
def k1_off558 (i : grid1.Coords) (v320 : BitVec 32) (v326 : BitVec 32) (k1_t139 : Fin (k1_t139_loop i v320 v326).trips) : Fin 2 → Nat :=
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let c1_i32_1197 : BitVec 32 := 1#32
  let arg13 : BitVec 32 := Scf.iv v1261 c1_i32_1197 k1_t139
  let v1840 : Index := Scalar.indexCast arg13
  let c112 : Index := 112#32
  ![v1840.toNat, 112]
@[reducible] def k1_t140_loop (i : grid1.Coords) (v320 : BitVec 32) (v326 : BitVec 32) : Scf.Loop 32 :=
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let c256_i32_777 : BitVec 32 := 256#32
  let c0_i32_776 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c512_i32_775 : BitVec 32 := 512#32
  let v1262 : BitVec 32 := Scalar.subi v330 c512_i32_775
  let v1263 : BitVec 32 := Scalar.maxsi c0_i32_776 v1262
  let v1264 : BitVec 32 := Scalar.minsi c256_i32_777 v1263
  let v1805 : BitVec 32 := Scalar.subi v1264 v1261
  let c1_i32_1196 : BitVec 32 := 1#32
  let v1807 : BitVec 32 := Scalar.divsi v1805 c1_i32_1196
  let v1808 : BitVec 32 := Scalar.muli v1807 c1_i32_1196
  let v1809 : BitVec 32 := Scalar.addi v1261 v1808
  let v1806 : BitVec 32 := Scalar.addi v1261 v1805
  let c1_i32_1198 : BitVec 32 := 1#32
  ⟨v1809, v1806, c1_i32_1198⟩
def k1_off559 (i : grid1.Coords) (v320 : BitVec 32) (v326 : BitVec 32) (k1_t140 : Fin (k1_t140_loop i v320 v326).trips) : Fin 2 → Nat :=
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let c256_i32_777 : BitVec 32 := 256#32
  let c0_i32_776 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c512_i32_775 : BitVec 32 := 512#32
  let v1262 : BitVec 32 := Scalar.subi v330 c512_i32_775
  let v1263 : BitVec 32 := Scalar.maxsi c0_i32_776 v1262
  let v1264 : BitVec 32 := Scalar.minsi c256_i32_777 v1263
  let v1805 : BitVec 32 := Scalar.subi v1264 v1261
  let c1_i32_1196 : BitVec 32 := 1#32
  let v1807 : BitVec 32 := Scalar.divsi v1805 c1_i32_1196
  let v1808 : BitVec 32 := Scalar.muli v1807 c1_i32_1196
  let v1809 : BitVec 32 := Scalar.addi v1261 v1808
  let c1_i32_1198 : BitVec 32 := 1#32
  let arg13 : BitVec 32 := Scf.iv v1809 c1_i32_1198 k1_t140
  let v1828 : Index := Scalar.indexCast arg13
  let c64 : Index := 64#32
  ![v1828.toNat, 64]
def k1_off560 (i : grid1.Coords) (v320 : BitVec 32) (v326 : BitVec 32) (k1_t140 : Fin (k1_t140_loop i v320 v326).trips) : Fin 2 → Nat :=
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let c256_i32_777 : BitVec 32 := 256#32
  let c0_i32_776 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c512_i32_775 : BitVec 32 := 512#32
  let v1262 : BitVec 32 := Scalar.subi v330 c512_i32_775
  let v1263 : BitVec 32 := Scalar.maxsi c0_i32_776 v1262
  let v1264 : BitVec 32 := Scalar.minsi c256_i32_777 v1263
  let v1805 : BitVec 32 := Scalar.subi v1264 v1261
  let c1_i32_1196 : BitVec 32 := 1#32
  let v1807 : BitVec 32 := Scalar.divsi v1805 c1_i32_1196
  let v1808 : BitVec 32 := Scalar.muli v1807 c1_i32_1196
  let v1809 : BitVec 32 := Scalar.addi v1261 v1808
  let c1_i32_1198 : BitVec 32 := 1#32
  let arg13 : BitVec 32 := Scf.iv v1809 c1_i32_1198 k1_t140
  let v1832 : Index := Scalar.indexCast arg13
  let c80 : Index := 80#32
  ![v1832.toNat, 80]
def k1_off561 (i : grid1.Coords) (v320 : BitVec 32) (v326 : BitVec 32) (k1_t140 : Fin (k1_t140_loop i v320 v326).trips) : Fin 2 → Nat :=
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let c256_i32_777 : BitVec 32 := 256#32
  let c0_i32_776 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c512_i32_775 : BitVec 32 := 512#32
  let v1262 : BitVec 32 := Scalar.subi v330 c512_i32_775
  let v1263 : BitVec 32 := Scalar.maxsi c0_i32_776 v1262
  let v1264 : BitVec 32 := Scalar.minsi c256_i32_777 v1263
  let v1805 : BitVec 32 := Scalar.subi v1264 v1261
  let c1_i32_1196 : BitVec 32 := 1#32
  let v1807 : BitVec 32 := Scalar.divsi v1805 c1_i32_1196
  let v1808 : BitVec 32 := Scalar.muli v1807 c1_i32_1196
  let v1809 : BitVec 32 := Scalar.addi v1261 v1808
  let c1_i32_1198 : BitVec 32 := 1#32
  let arg13 : BitVec 32 := Scf.iv v1809 c1_i32_1198 k1_t140
  let v1836 : Index := Scalar.indexCast arg13
  let c96 : Index := 96#32
  ![v1836.toNat, 96]
def k1_off562 (i : grid1.Coords) (v320 : BitVec 32) (v326 : BitVec 32) (k1_t140 : Fin (k1_t140_loop i v320 v326).trips) : Fin 2 → Nat :=
  let c256_i32_774 : BitVec 32 := 256#32
  let c0_i32_773 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c512_i32_772 : BitVec 32 := 512#32
  let v1259 : BitVec 32 := Scalar.subi v324 c512_i32_772
  let v1260 : BitVec 32 := Scalar.maxsi c0_i32_773 v1259
  let v1261 : BitVec 32 := Scalar.minsi c256_i32_774 v1260
  let c256_i32_777 : BitVec 32 := 256#32
  let c0_i32_776 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c512_i32_775 : BitVec 32 := 512#32
  let v1262 : BitVec 32 := Scalar.subi v330 c512_i32_775
  let v1263 : BitVec 32 := Scalar.maxsi c0_i32_776 v1262
  let v1264 : BitVec 32 := Scalar.minsi c256_i32_777 v1263
  let v1805 : BitVec 32 := Scalar.subi v1264 v1261
  let c1_i32_1196 : BitVec 32 := 1#32
  let v1807 : BitVec 32 := Scalar.divsi v1805 c1_i32_1196
  let v1808 : BitVec 32 := Scalar.muli v1807 c1_i32_1196
  let v1809 : BitVec 32 := Scalar.addi v1261 v1808
  let c1_i32_1198 : BitVec 32 := 1#32
  let arg13 : BitVec 32 := Scf.iv v1809 c1_i32_1198 k1_t140
  let v1840 : Index := Scalar.indexCast arg13
  let c112 : Index := 112#32
  ![v1840.toNat, 112]
@[reducible] def k1_t141_loop (i : grid1.Coords) (v332 : BitVec 32) (v337 : BitVec 32) : Scf.Loop 32 :=
  let c256_i32_781 : BitVec 32 := 256#32
  let c0_i32_780 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let c256_i32_784 : BitVec 32 := 256#32
  let c0_i32_783 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c512_i32_782 : BitVec 32 := 512#32
  let v1271 : BitVec 32 := Scalar.subi v340 c512_i32_782
  let v1272 : BitVec 32 := Scalar.maxsi c0_i32_783 v1271
  let v1273 : BitVec 32 := Scalar.minsi c256_i32_784 v1272
  let v1805 : BitVec 32 := Scalar.subi v1273 v1270
  let c1_i32_1196 : BitVec 32 := 1#32
  let v1807 : BitVec 32 := Scalar.divsi v1805 c1_i32_1196
  let v1808 : BitVec 32 := Scalar.muli v1807 c1_i32_1196
  let v1809 : BitVec 32 := Scalar.addi v1270 v1808
  let c1_i32_1197 : BitVec 32 := 1#32
  ⟨v1270, v1809, c1_i32_1197⟩
def k1_cond71 (i : grid1.Coords) (v332 : BitVec 32) (v337 : BitVec 32) : BitVec 1 :=
  let c256_i32_784 : BitVec 32 := 256#32
  let c0_i32_783 : BitVec 32 := 0#32
  let c1024_i32_144 : BitVec 32 := 1024#32
  let c0_i32_143 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v338 : BitVec 32 := Scalar.subi v337 v3
  let v339 : BitVec 32 := Scalar.maxsi c0_i32_143 v338
  let v340 : BitVec 32 := Scalar.minsi c1024_i32_144 v339
  let c512_i32_782 : BitVec 32 := 512#32
  let v1271 : BitVec 32 := Scalar.subi v340 c512_i32_782
  let v1272 : BitVec 32 := Scalar.maxsi c0_i32_783 v1271
  let v1273 : BitVec 32 := Scalar.minsi c256_i32_784 v1272
  let c256_i32_781 : BitVec 32 := 256#32
  let c0_i32_780 : BitVec 32 := 0#32
  let c1024_i32_142 : BitVec 32 := 1024#32
  let c0_i32_141 : BitVec 32 := 0#32
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let v1274 : BitVec 1 := Scalar.cmpi .sgt v1273 v1270
  let v1275 : BitVec 32 := Scalar.extui v1274
  let c0_i32_785 : BitVec 32 := 0#32
  let v1276 : BitVec 1 := Scalar.cmpi .ne v1275 c0_i32_785
  v1276

def k1_off563 (i : grid1.Coords) (v332 : BitVec 32) (v337 : BitVec 32) (k1_t141 : Fin (k1_t141_loop i v332 v337).trips) : Fin 2 → Nat :=
  let c256_i32_781 : BitVec 32 := 256#32
  let c0_i32_780 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let c1_i32_1197 : BitVec 32 := 1#32
  let arg13 : BitVec 32 := Scf.iv v1270 c1_i32_1197 k1_t141
  let v1828 : Index := Scalar.indexCast arg13
  let c0_1207 : Index := 0#32
  ![v1828.toNat, 0]
def k1_off564 (i : grid1.Coords) (v332 : BitVec 32) (v337 : BitVec 32) (k1_t141 : Fin (k1_t141_loop i v332 v337).trips) : Fin 2 → Nat :=
  let c256_i32_781 : BitVec 32 := 256#32
  let c0_i32_780 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let c1_i32_1197 : BitVec 32 := 1#32
  let arg13 : BitVec 32 := Scf.iv v1270 c1_i32_1197 k1_t141
  let v1832 : Index := Scalar.indexCast arg13
  let c16_1208 : Index := 16#32
  ![v1832.toNat, 16]
def k1_off565 (i : grid1.Coords) (v332 : BitVec 32) (v337 : BitVec 32) (k1_t141 : Fin (k1_t141_loop i v332 v337).trips) : Fin 2 → Nat :=
  let c256_i32_781 : BitVec 32 := 256#32
  let c0_i32_780 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let c1_i32_1197 : BitVec 32 := 1#32
  let arg13 : BitVec 32 := Scf.iv v1270 c1_i32_1197 k1_t141
  let v1836 : Index := Scalar.indexCast arg13
  let c32_1209 : Index := 32#32
  ![v1836.toNat, 32]
def k1_off566 (i : grid1.Coords) (v332 : BitVec 32) (v337 : BitVec 32) (k1_t141 : Fin (k1_t141_loop i v332 v337).trips) : Fin 2 → Nat :=
  let c256_i32_781 : BitVec 32 := 256#32
  let c0_i32_780 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let c1_i32_1197 : BitVec 32 := 1#32
  let arg13 : BitVec 32 := Scf.iv v1270 c1_i32_1197 k1_t141
  let v1840 : Index := Scalar.indexCast arg13
  let c48_1210 : Index := 48#32
  ![v1840.toNat, 48]
@[reducible] def k1_t142_loop (i : grid1.Coords) (v332 : BitVec 32) (v337 : BitVec 32) : Scf.Loop 32 :=
  let c256_i32_781 : BitVec 32 := 256#32
  let c0_i32_780 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let c256_i32_784 : BitVec 32 := 256#32
  let c0_i32_783 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c512_i32_782 : BitVec 32 := 512#32
  let v1271 : BitVec 32 := Scalar.subi v340 c512_i32_782
  let v1272 : BitVec 32 := Scalar.maxsi c0_i32_783 v1271
  let v1273 : BitVec 32 := Scalar.minsi c256_i32_784 v1272
  let v1805 : BitVec 32 := Scalar.subi v1273 v1270
  let c1_i32_1196 : BitVec 32 := 1#32
  let v1807 : BitVec 32 := Scalar.divsi v1805 c1_i32_1196
  let v1808 : BitVec 32 := Scalar.muli v1807 c1_i32_1196
  let v1809 : BitVec 32 := Scalar.addi v1270 v1808
  let v1806 : BitVec 32 := Scalar.addi v1270 v1805
  let c1_i32_1198 : BitVec 32 := 1#32
  ⟨v1809, v1806, c1_i32_1198⟩
def k1_off567 (i : grid1.Coords) (v332 : BitVec 32) (v337 : BitVec 32) (k1_t142 : Fin (k1_t142_loop i v332 v337).trips) : Fin 2 → Nat :=
  let c256_i32_781 : BitVec 32 := 256#32
  let c0_i32_780 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let c256_i32_784 : BitVec 32 := 256#32
  let c0_i32_783 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c512_i32_782 : BitVec 32 := 512#32
  let v1271 : BitVec 32 := Scalar.subi v340 c512_i32_782
  let v1272 : BitVec 32 := Scalar.maxsi c0_i32_783 v1271
  let v1273 : BitVec 32 := Scalar.minsi c256_i32_784 v1272
  let v1805 : BitVec 32 := Scalar.subi v1273 v1270
  let c1_i32_1196 : BitVec 32 := 1#32
  let v1807 : BitVec 32 := Scalar.divsi v1805 c1_i32_1196
  let v1808 : BitVec 32 := Scalar.muli v1807 c1_i32_1196
  let v1809 : BitVec 32 := Scalar.addi v1270 v1808
  let c1_i32_1198 : BitVec 32 := 1#32
  let arg13 : BitVec 32 := Scf.iv v1809 c1_i32_1198 k1_t142
  let v1828 : Index := Scalar.indexCast arg13
  let c0_1207 : Index := 0#32
  ![v1828.toNat, 0]
def k1_off568 (i : grid1.Coords) (v332 : BitVec 32) (v337 : BitVec 32) (k1_t142 : Fin (k1_t142_loop i v332 v337).trips) : Fin 2 → Nat :=
  let c256_i32_781 : BitVec 32 := 256#32
  let c0_i32_780 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let c256_i32_784 : BitVec 32 := 256#32
  let c0_i32_783 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c512_i32_782 : BitVec 32 := 512#32
  let v1271 : BitVec 32 := Scalar.subi v340 c512_i32_782
  let v1272 : BitVec 32 := Scalar.maxsi c0_i32_783 v1271
  let v1273 : BitVec 32 := Scalar.minsi c256_i32_784 v1272
  let v1805 : BitVec 32 := Scalar.subi v1273 v1270
  let c1_i32_1196 : BitVec 32 := 1#32
  let v1807 : BitVec 32 := Scalar.divsi v1805 c1_i32_1196
  let v1808 : BitVec 32 := Scalar.muli v1807 c1_i32_1196
  let v1809 : BitVec 32 := Scalar.addi v1270 v1808
  let c1_i32_1198 : BitVec 32 := 1#32
  let arg13 : BitVec 32 := Scf.iv v1809 c1_i32_1198 k1_t142
  let v1832 : Index := Scalar.indexCast arg13
  let c16_1208 : Index := 16#32
  ![v1832.toNat, 16]
def k1_off569 (i : grid1.Coords) (v332 : BitVec 32) (v337 : BitVec 32) (k1_t142 : Fin (k1_t142_loop i v332 v337).trips) : Fin 2 → Nat :=
  let c256_i32_781 : BitVec 32 := 256#32
  let c0_i32_780 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let c256_i32_784 : BitVec 32 := 256#32
  let c0_i32_783 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c512_i32_782 : BitVec 32 := 512#32
  let v1271 : BitVec 32 := Scalar.subi v340 c512_i32_782
  let v1272 : BitVec 32 := Scalar.maxsi c0_i32_783 v1271
  let v1273 : BitVec 32 := Scalar.minsi c256_i32_784 v1272
  let v1805 : BitVec 32 := Scalar.subi v1273 v1270
  let c1_i32_1196 : BitVec 32 := 1#32
  let v1807 : BitVec 32 := Scalar.divsi v1805 c1_i32_1196
  let v1808 : BitVec 32 := Scalar.muli v1807 c1_i32_1196
  let v1809 : BitVec 32 := Scalar.addi v1270 v1808
  let c1_i32_1198 : BitVec 32 := 1#32
  let arg13 : BitVec 32 := Scf.iv v1809 c1_i32_1198 k1_t142
  let v1836 : Index := Scalar.indexCast arg13
  let c32_1209 : Index := 32#32
  ![v1836.toNat, 32]
def k1_off570 (i : grid1.Coords) (v332 : BitVec 32) (v337 : BitVec 32) (k1_t142 : Fin (k1_t142_loop i v332 v337).trips) : Fin 2 → Nat :=
  let c256_i32_781 : BitVec 32 := 256#32
  let c0_i32_780 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c512_i32_779 : BitVec 32 := 512#32
  let v1268 : BitVec 32 := Scalar.subi v335 c512_i32_779
  let v1269 : BitVec 32 := Scalar.maxsi c0_i32_780 v1268
  let v1270 : BitVec 32 := Scalar.minsi c256_i32_781 v1269
  let c256_i32_784 : BitVec 32 := 256#32
  let c0_i32_783 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c512_i32_782 : BitVec 32 := 512#32
  let v1271 : BitVec 32 := Scalar.subi v340 c512_i32_782
  let v1272 : BitVec 32 := Scalar.maxsi c0_i32_783 v1271
  let v1273 : BitVec 32 := Scalar.minsi c256_i32_784 v1272
  let v1805 : BitVec 32 := Scalar.subi v1273 v1270
  let c1_i32_1196 : BitVec 32 := 1#32
  let v1807 : BitVec 32 := Scalar.divsi v1805 c1_i32_1196
  let v1808 : BitVec 32 := Scalar.muli v1807 c1_i32_1196
  let v1809 : BitVec 32 := Scalar.addi v1270 v1808
  let c1_i32_1198 : BitVec 32 := 1#32
  let arg13 : BitVec 32 := Scf.iv v1809 c1_i32_1198 k1_t142
  let v1840 : Index := Scalar.indexCast arg13
  let c48_1210 : Index := 48#32
  ![v1840.toNat, 48]
@[reducible] def k1_t143_loop (i : grid1.Coords) (v342 : BitVec 32) (v348 : BitVec 32) : Scf.Loop 32 :=
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let c256_i32_791 : BitVec 32 := 256#32
  let c0_i32_790 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c512_i32_789 : BitVec 32 := 512#32
  let v1280 : BitVec 32 := Scalar.subi v352 c512_i32_789
  let v1281 : BitVec 32 := Scalar.maxsi c0_i32_790 v1280
  let v1282 : BitVec 32 := Scalar.minsi c256_i32_791 v1281
  let v1805 : BitVec 32 := Scalar.subi v1282 v1279
  let c1_i32_1196 : BitVec 32 := 1#32
  let v1807 : BitVec 32 := Scalar.divsi v1805 c1_i32_1196
  let v1808 : BitVec 32 := Scalar.muli v1807 c1_i32_1196
  let v1809 : BitVec 32 := Scalar.addi v1279 v1808
  let c1_i32_1197 : BitVec 32 := 1#32
  ⟨v1279, v1809, c1_i32_1197⟩
def k1_cond72 (i : grid1.Coords) (v342 : BitVec 32) (v348 : BitVec 32) : BitVec 1 :=
  let c256_i32_791 : BitVec 32 := 256#32
  let c0_i32_790 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v350 : BitVec 32 := Scalar.subi v349 v3
  let v351 : BitVec 32 := Scalar.maxsi c0_i32_149 v350
  let v352 : BitVec 32 := Scalar.minsi c1024_i32_150 v351
  let c512_i32_789 : BitVec 32 := 512#32
  let v1280 : BitVec 32 := Scalar.subi v352 c512_i32_789
  let v1281 : BitVec 32 := Scalar.maxsi c0_i32_790 v1280
  let v1282 : BitVec 32 := Scalar.minsi c256_i32_791 v1281
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let v1283 : BitVec 1 := Scalar.cmpi .sgt v1282 v1279
  let v1284 : BitVec 32 := Scalar.extui v1283
  let c0_i32_792 : BitVec 32 := 0#32
  let v1285 : BitVec 1 := Scalar.cmpi .ne v1284 c0_i32_792
  v1285

def k1_off571 (i : grid1.Coords) (v342 : BitVec 32) (v348 : BitVec 32) (k1_t143 : Fin (k1_t143_loop i v342 v348).trips) : Fin 2 → Nat :=
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let c1_i32_1197 : BitVec 32 := 1#32
  let arg13 : BitVec 32 := Scf.iv v1279 c1_i32_1197 k1_t143
  let v1828 : Index := Scalar.indexCast arg13
  let c64 : Index := 64#32
  ![v1828.toNat, 64]
def k1_off572 (i : grid1.Coords) (v342 : BitVec 32) (v348 : BitVec 32) (k1_t143 : Fin (k1_t143_loop i v342 v348).trips) : Fin 2 → Nat :=
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let c1_i32_1197 : BitVec 32 := 1#32
  let arg13 : BitVec 32 := Scf.iv v1279 c1_i32_1197 k1_t143
  let v1832 : Index := Scalar.indexCast arg13
  let c80 : Index := 80#32
  ![v1832.toNat, 80]
def k1_off573 (i : grid1.Coords) (v342 : BitVec 32) (v348 : BitVec 32) (k1_t143 : Fin (k1_t143_loop i v342 v348).trips) : Fin 2 → Nat :=
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let c1_i32_1197 : BitVec 32 := 1#32
  let arg13 : BitVec 32 := Scf.iv v1279 c1_i32_1197 k1_t143
  let v1836 : Index := Scalar.indexCast arg13
  let c96 : Index := 96#32
  ![v1836.toNat, 96]
def k1_off574 (i : grid1.Coords) (v342 : BitVec 32) (v348 : BitVec 32) (k1_t143 : Fin (k1_t143_loop i v342 v348).trips) : Fin 2 → Nat :=
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let c1_i32_1197 : BitVec 32 := 1#32
  let arg13 : BitVec 32 := Scf.iv v1279 c1_i32_1197 k1_t143
  let v1840 : Index := Scalar.indexCast arg13
  let c112 : Index := 112#32
  ![v1840.toNat, 112]
@[reducible] def k1_t144_loop (i : grid1.Coords) (v342 : BitVec 32) (v348 : BitVec 32) : Scf.Loop 32 :=
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let c256_i32_791 : BitVec 32 := 256#32
  let c0_i32_790 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c512_i32_789 : BitVec 32 := 512#32
  let v1280 : BitVec 32 := Scalar.subi v352 c512_i32_789
  let v1281 : BitVec 32 := Scalar.maxsi c0_i32_790 v1280
  let v1282 : BitVec 32 := Scalar.minsi c256_i32_791 v1281
  let v1805 : BitVec 32 := Scalar.subi v1282 v1279
  let c1_i32_1196 : BitVec 32 := 1#32
  let v1807 : BitVec 32 := Scalar.divsi v1805 c1_i32_1196
  let v1808 : BitVec 32 := Scalar.muli v1807 c1_i32_1196
  let v1809 : BitVec 32 := Scalar.addi v1279 v1808
  let v1806 : BitVec 32 := Scalar.addi v1279 v1805
  let c1_i32_1198 : BitVec 32 := 1#32
  ⟨v1809, v1806, c1_i32_1198⟩
def k1_off575 (i : grid1.Coords) (v342 : BitVec 32) (v348 : BitVec 32) (k1_t144 : Fin (k1_t144_loop i v342 v348).trips) : Fin 2 → Nat :=
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let c256_i32_791 : BitVec 32 := 256#32
  let c0_i32_790 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c512_i32_789 : BitVec 32 := 512#32
  let v1280 : BitVec 32 := Scalar.subi v352 c512_i32_789
  let v1281 : BitVec 32 := Scalar.maxsi c0_i32_790 v1280
  let v1282 : BitVec 32 := Scalar.minsi c256_i32_791 v1281
  let v1805 : BitVec 32 := Scalar.subi v1282 v1279
  let c1_i32_1196 : BitVec 32 := 1#32
  let v1807 : BitVec 32 := Scalar.divsi v1805 c1_i32_1196
  let v1808 : BitVec 32 := Scalar.muli v1807 c1_i32_1196
  let v1809 : BitVec 32 := Scalar.addi v1279 v1808
  let c1_i32_1198 : BitVec 32 := 1#32
  let arg13 : BitVec 32 := Scf.iv v1809 c1_i32_1198 k1_t144
  let v1828 : Index := Scalar.indexCast arg13
  let c64 : Index := 64#32
  ![v1828.toNat, 64]
def k1_off576 (i : grid1.Coords) (v342 : BitVec 32) (v348 : BitVec 32) (k1_t144 : Fin (k1_t144_loop i v342 v348).trips) : Fin 2 → Nat :=
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let c256_i32_791 : BitVec 32 := 256#32
  let c0_i32_790 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c512_i32_789 : BitVec 32 := 512#32
  let v1280 : BitVec 32 := Scalar.subi v352 c512_i32_789
  let v1281 : BitVec 32 := Scalar.maxsi c0_i32_790 v1280
  let v1282 : BitVec 32 := Scalar.minsi c256_i32_791 v1281
  let v1805 : BitVec 32 := Scalar.subi v1282 v1279
  let c1_i32_1196 : BitVec 32 := 1#32
  let v1807 : BitVec 32 := Scalar.divsi v1805 c1_i32_1196
  let v1808 : BitVec 32 := Scalar.muli v1807 c1_i32_1196
  let v1809 : BitVec 32 := Scalar.addi v1279 v1808
  let c1_i32_1198 : BitVec 32 := 1#32
  let arg13 : BitVec 32 := Scf.iv v1809 c1_i32_1198 k1_t144
  let v1832 : Index := Scalar.indexCast arg13
  let c80 : Index := 80#32
  ![v1832.toNat, 80]
def k1_off577 (i : grid1.Coords) (v342 : BitVec 32) (v348 : BitVec 32) (k1_t144 : Fin (k1_t144_loop i v342 v348).trips) : Fin 2 → Nat :=
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let c256_i32_791 : BitVec 32 := 256#32
  let c0_i32_790 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c512_i32_789 : BitVec 32 := 512#32
  let v1280 : BitVec 32 := Scalar.subi v352 c512_i32_789
  let v1281 : BitVec 32 := Scalar.maxsi c0_i32_790 v1280
  let v1282 : BitVec 32 := Scalar.minsi c256_i32_791 v1281
  let v1805 : BitVec 32 := Scalar.subi v1282 v1279
  let c1_i32_1196 : BitVec 32 := 1#32
  let v1807 : BitVec 32 := Scalar.divsi v1805 c1_i32_1196
  let v1808 : BitVec 32 := Scalar.muli v1807 c1_i32_1196
  let v1809 : BitVec 32 := Scalar.addi v1279 v1808
  let c1_i32_1198 : BitVec 32 := 1#32
  let arg13 : BitVec 32 := Scf.iv v1809 c1_i32_1198 k1_t144
  let v1836 : Index := Scalar.indexCast arg13
  let c96 : Index := 96#32
  ![v1836.toNat, 96]
def k1_off578 (i : grid1.Coords) (v342 : BitVec 32) (v348 : BitVec 32) (k1_t144 : Fin (k1_t144_loop i v342 v348).trips) : Fin 2 → Nat :=
  let c256_i32_788 : BitVec 32 := 256#32
  let c0_i32_787 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c512_i32_786 : BitVec 32 := 512#32
  let v1277 : BitVec 32 := Scalar.subi v346 c512_i32_786
  let v1278 : BitVec 32 := Scalar.maxsi c0_i32_787 v1277
  let v1279 : BitVec 32 := Scalar.minsi c256_i32_788 v1278
  let c256_i32_791 : BitVec 32 := 256#32
  let c0_i32_790 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c512_i32_789 : BitVec 32 := 512#32
  let v1280 : BitVec 32 := Scalar.subi v352 c512_i32_789
  let v1281 : BitVec 32 := Scalar.maxsi c0_i32_790 v1280
  let v1282 : BitVec 32 := Scalar.minsi c256_i32_791 v1281
  let v1805 : BitVec 32 := Scalar.subi v1282 v1279
  let c1_i32_1196 : BitVec 32 := 1#32
  let v1807 : BitVec 32 := Scalar.divsi v1805 c1_i32_1196
  let v1808 : BitVec 32 := Scalar.muli v1807 c1_i32_1196
  let v1809 : BitVec 32 := Scalar.addi v1279 v1808
  let c1_i32_1198 : BitVec 32 := 1#32
  let arg13 : BitVec 32 := Scf.iv v1809 c1_i32_1198 k1_t144
  let v1840 : Index := Scalar.indexCast arg13
  let c112 : Index := 112#32
  ![v1840.toNat, 112]
@[reducible] def k1_t145_loop (i : grid1.Coords) (v354 : BitVec 32) (v359 : BitVec 32) : Scf.Loop 32 :=
  let c256_i32_795 : BitVec 32 := 256#32
  let c0_i32_794 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let c256_i32_798 : BitVec 32 := 256#32
  let c0_i32_797 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c512_i32_796 : BitVec 32 := 512#32
  let v1289 : BitVec 32 := Scalar.subi v362 c512_i32_796
  let v1290 : BitVec 32 := Scalar.maxsi c0_i32_797 v1289
  let v1291 : BitVec 32 := Scalar.minsi c256_i32_798 v1290
  let v1805 : BitVec 32 := Scalar.subi v1291 v1288
  let c1_i32_1196 : BitVec 32 := 1#32
  let v1807 : BitVec 32 := Scalar.divsi v1805 c1_i32_1196
  let v1808 : BitVec 32 := Scalar.muli v1807 c1_i32_1196
  let v1809 : BitVec 32 := Scalar.addi v1288 v1808
  let c1_i32_1197 : BitVec 32 := 1#32
  ⟨v1288, v1809, c1_i32_1197⟩
def k1_cond73 (i : grid1.Coords) (v354 : BitVec 32) (v359 : BitVec 32) : BitVec 1 :=
  let c256_i32_798 : BitVec 32 := 256#32
  let c0_i32_797 : BitVec 32 := 0#32
  let c1024_i32_154 : BitVec 32 := 1024#32
  let c0_i32_153 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v360 : BitVec 32 := Scalar.subi v359 v3
  let v361 : BitVec 32 := Scalar.maxsi c0_i32_153 v360
  let v362 : BitVec 32 := Scalar.minsi c1024_i32_154 v361
  let c512_i32_796 : BitVec 32 := 512#32
  let v1289 : BitVec 32 := Scalar.subi v362 c512_i32_796
  let v1290 : BitVec 32 := Scalar.maxsi c0_i32_797 v1289
  let v1291 : BitVec 32 := Scalar.minsi c256_i32_798 v1290
  let c256_i32_795 : BitVec 32 := 256#32
  let c0_i32_794 : BitVec 32 := 0#32
  let c1024_i32_152 : BitVec 32 := 1024#32
  let c0_i32_151 : BitVec 32 := 0#32
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let v1292 : BitVec 1 := Scalar.cmpi .sgt v1291 v1288
  let v1293 : BitVec 32 := Scalar.extui v1292
  let c0_i32_799 : BitVec 32 := 0#32
  let v1294 : BitVec 1 := Scalar.cmpi .ne v1293 c0_i32_799
  v1294

def k1_off579 (i : grid1.Coords) (v354 : BitVec 32) (v359 : BitVec 32) (k1_t145 : Fin (k1_t145_loop i v354 v359).trips) : Fin 2 → Nat :=
  let c256_i32_795 : BitVec 32 := 256#32
  let c0_i32_794 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let c1_i32_1197 : BitVec 32 := 1#32
  let arg13 : BitVec 32 := Scf.iv v1288 c1_i32_1197 k1_t145
  let v1828 : Index := Scalar.indexCast arg13
  let c0_1207 : Index := 0#32
  ![v1828.toNat, 0]
def k1_off580 (i : grid1.Coords) (v354 : BitVec 32) (v359 : BitVec 32) (k1_t145 : Fin (k1_t145_loop i v354 v359).trips) : Fin 2 → Nat :=
  let c256_i32_795 : BitVec 32 := 256#32
  let c0_i32_794 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let c1_i32_1197 : BitVec 32 := 1#32
  let arg13 : BitVec 32 := Scf.iv v1288 c1_i32_1197 k1_t145
  let v1832 : Index := Scalar.indexCast arg13
  let c16_1208 : Index := 16#32
  ![v1832.toNat, 16]
def k1_off581 (i : grid1.Coords) (v354 : BitVec 32) (v359 : BitVec 32) (k1_t145 : Fin (k1_t145_loop i v354 v359).trips) : Fin 2 → Nat :=
  let c256_i32_795 : BitVec 32 := 256#32
  let c0_i32_794 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let c1_i32_1197 : BitVec 32 := 1#32
  let arg13 : BitVec 32 := Scf.iv v1288 c1_i32_1197 k1_t145
  let v1836 : Index := Scalar.indexCast arg13
  let c32_1209 : Index := 32#32
  ![v1836.toNat, 32]
def k1_off582 (i : grid1.Coords) (v354 : BitVec 32) (v359 : BitVec 32) (k1_t145 : Fin (k1_t145_loop i v354 v359).trips) : Fin 2 → Nat :=
  let c256_i32_795 : BitVec 32 := 256#32
  let c0_i32_794 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let c1_i32_1197 : BitVec 32 := 1#32
  let arg13 : BitVec 32 := Scf.iv v1288 c1_i32_1197 k1_t145
  let v1840 : Index := Scalar.indexCast arg13
  let c48_1210 : Index := 48#32
  ![v1840.toNat, 48]
@[reducible] def k1_t146_loop (i : grid1.Coords) (v354 : BitVec 32) (v359 : BitVec 32) : Scf.Loop 32 :=
  let c256_i32_795 : BitVec 32 := 256#32
  let c0_i32_794 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let c256_i32_798 : BitVec 32 := 256#32
  let c0_i32_797 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c512_i32_796 : BitVec 32 := 512#32
  let v1289 : BitVec 32 := Scalar.subi v362 c512_i32_796
  let v1290 : BitVec 32 := Scalar.maxsi c0_i32_797 v1289
  let v1291 : BitVec 32 := Scalar.minsi c256_i32_798 v1290
  let v1805 : BitVec 32 := Scalar.subi v1291 v1288
  let c1_i32_1196 : BitVec 32 := 1#32
  let v1807 : BitVec 32 := Scalar.divsi v1805 c1_i32_1196
  let v1808 : BitVec 32 := Scalar.muli v1807 c1_i32_1196
  let v1809 : BitVec 32 := Scalar.addi v1288 v1808
  let v1806 : BitVec 32 := Scalar.addi v1288 v1805
  let c1_i32_1198 : BitVec 32 := 1#32
  ⟨v1809, v1806, c1_i32_1198⟩
def k1_off583 (i : grid1.Coords) (v354 : BitVec 32) (v359 : BitVec 32) (k1_t146 : Fin (k1_t146_loop i v354 v359).trips) : Fin 2 → Nat :=
  let c256_i32_795 : BitVec 32 := 256#32
  let c0_i32_794 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let c256_i32_798 : BitVec 32 := 256#32
  let c0_i32_797 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c512_i32_796 : BitVec 32 := 512#32
  let v1289 : BitVec 32 := Scalar.subi v362 c512_i32_796
  let v1290 : BitVec 32 := Scalar.maxsi c0_i32_797 v1289
  let v1291 : BitVec 32 := Scalar.minsi c256_i32_798 v1290
  let v1805 : BitVec 32 := Scalar.subi v1291 v1288
  let c1_i32_1196 : BitVec 32 := 1#32
  let v1807 : BitVec 32 := Scalar.divsi v1805 c1_i32_1196
  let v1808 : BitVec 32 := Scalar.muli v1807 c1_i32_1196
  let v1809 : BitVec 32 := Scalar.addi v1288 v1808
  let c1_i32_1198 : BitVec 32 := 1#32
  let arg13 : BitVec 32 := Scf.iv v1809 c1_i32_1198 k1_t146
  let v1828 : Index := Scalar.indexCast arg13
  let c0_1207 : Index := 0#32
  ![v1828.toNat, 0]
def k1_off584 (i : grid1.Coords) (v354 : BitVec 32) (v359 : BitVec 32) (k1_t146 : Fin (k1_t146_loop i v354 v359).trips) : Fin 2 → Nat :=
  let c256_i32_795 : BitVec 32 := 256#32
  let c0_i32_794 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let c256_i32_798 : BitVec 32 := 256#32
  let c0_i32_797 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c512_i32_796 : BitVec 32 := 512#32
  let v1289 : BitVec 32 := Scalar.subi v362 c512_i32_796
  let v1290 : BitVec 32 := Scalar.maxsi c0_i32_797 v1289
  let v1291 : BitVec 32 := Scalar.minsi c256_i32_798 v1290
  let v1805 : BitVec 32 := Scalar.subi v1291 v1288
  let c1_i32_1196 : BitVec 32 := 1#32
  let v1807 : BitVec 32 := Scalar.divsi v1805 c1_i32_1196
  let v1808 : BitVec 32 := Scalar.muli v1807 c1_i32_1196
  let v1809 : BitVec 32 := Scalar.addi v1288 v1808
  let c1_i32_1198 : BitVec 32 := 1#32
  let arg13 : BitVec 32 := Scf.iv v1809 c1_i32_1198 k1_t146
  let v1832 : Index := Scalar.indexCast arg13
  let c16_1208 : Index := 16#32
  ![v1832.toNat, 16]
def k1_off585 (i : grid1.Coords) (v354 : BitVec 32) (v359 : BitVec 32) (k1_t146 : Fin (k1_t146_loop i v354 v359).trips) : Fin 2 → Nat :=
  let c256_i32_795 : BitVec 32 := 256#32
  let c0_i32_794 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let c256_i32_798 : BitVec 32 := 256#32
  let c0_i32_797 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c512_i32_796 : BitVec 32 := 512#32
  let v1289 : BitVec 32 := Scalar.subi v362 c512_i32_796
  let v1290 : BitVec 32 := Scalar.maxsi c0_i32_797 v1289
  let v1291 : BitVec 32 := Scalar.minsi c256_i32_798 v1290
  let v1805 : BitVec 32 := Scalar.subi v1291 v1288
  let c1_i32_1196 : BitVec 32 := 1#32
  let v1807 : BitVec 32 := Scalar.divsi v1805 c1_i32_1196
  let v1808 : BitVec 32 := Scalar.muli v1807 c1_i32_1196
  let v1809 : BitVec 32 := Scalar.addi v1288 v1808
  let c1_i32_1198 : BitVec 32 := 1#32
  let arg13 : BitVec 32 := Scf.iv v1809 c1_i32_1198 k1_t146
  let v1836 : Index := Scalar.indexCast arg13
  let c32_1209 : Index := 32#32
  ![v1836.toNat, 32]
def k1_off586 (i : grid1.Coords) (v354 : BitVec 32) (v359 : BitVec 32) (k1_t146 : Fin (k1_t146_loop i v354 v359).trips) : Fin 2 → Nat :=
  let c256_i32_795 : BitVec 32 := 256#32
  let c0_i32_794 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c512_i32_793 : BitVec 32 := 512#32
  let v1286 : BitVec 32 := Scalar.subi v357 c512_i32_793
  let v1287 : BitVec 32 := Scalar.maxsi c0_i32_794 v1286
  let v1288 : BitVec 32 := Scalar.minsi c256_i32_795 v1287
  let c256_i32_798 : BitVec 32 := 256#32
  let c0_i32_797 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c512_i32_796 : BitVec 32 := 512#32
  let v1289 : BitVec 32 := Scalar.subi v362 c512_i32_796
  let v1290 : BitVec 32 := Scalar.maxsi c0_i32_797 v1289
  let v1291 : BitVec 32 := Scalar.minsi c256_i32_798 v1290
  let v1805 : BitVec 32 := Scalar.subi v1291 v1288
  let c1_i32_1196 : BitVec 32 := 1#32
  let v1807 : BitVec 32 := Scalar.divsi v1805 c1_i32_1196
  let v1808 : BitVec 32 := Scalar.muli v1807 c1_i32_1196
  let v1809 : BitVec 32 := Scalar.addi v1288 v1808
  let c1_i32_1198 : BitVec 32 := 1#32
  let arg13 : BitVec 32 := Scf.iv v1809 c1_i32_1198 k1_t146
  let v1840 : Index := Scalar.indexCast arg13
  let c48_1210 : Index := 48#32
  ![v1840.toNat, 48]
@[reducible] def k1_t147_loop (i : grid1.Coords) (v364 : BitVec 32) (v370 : BitVec 32) : Scf.Loop 32 :=
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let c256_i32_805 : BitVec 32 := 256#32
  let c0_i32_804 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c512_i32_803 : BitVec 32 := 512#32
  let v1298 : BitVec 32 := Scalar.subi v374 c512_i32_803
  let v1299 : BitVec 32 := Scalar.maxsi c0_i32_804 v1298
  let v1300 : BitVec 32 := Scalar.minsi c256_i32_805 v1299
  let v1805 : BitVec 32 := Scalar.subi v1300 v1297
  let c1_i32_1196 : BitVec 32 := 1#32
  let v1807 : BitVec 32 := Scalar.divsi v1805 c1_i32_1196
  let v1808 : BitVec 32 := Scalar.muli v1807 c1_i32_1196
  let v1809 : BitVec 32 := Scalar.addi v1297 v1808
  let c1_i32_1197 : BitVec 32 := 1#32
  ⟨v1297, v1809, c1_i32_1197⟩
def k1_cond74 (i : grid1.Coords) (v364 : BitVec 32) (v370 : BitVec 32) : BitVec 1 :=
  let c256_i32_805 : BitVec 32 := 256#32
  let c0_i32_804 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v372 : BitVec 32 := Scalar.subi v371 v3
  let v373 : BitVec 32 := Scalar.maxsi c0_i32_159 v372
  let v374 : BitVec 32 := Scalar.minsi c1024_i32_160 v373
  let c512_i32_803 : BitVec 32 := 512#32
  let v1298 : BitVec 32 := Scalar.subi v374 c512_i32_803
  let v1299 : BitVec 32 := Scalar.maxsi c0_i32_804 v1298
  let v1300 : BitVec 32 := Scalar.minsi c256_i32_805 v1299
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let v1301 : BitVec 1 := Scalar.cmpi .sgt v1300 v1297
  let v1302 : BitVec 32 := Scalar.extui v1301
  let c0_i32_806 : BitVec 32 := 0#32
  let v1303 : BitVec 1 := Scalar.cmpi .ne v1302 c0_i32_806
  v1303

def k1_off587 (i : grid1.Coords) (v364 : BitVec 32) (v370 : BitVec 32) (k1_t147 : Fin (k1_t147_loop i v364 v370).trips) : Fin 2 → Nat :=
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let c1_i32_1197 : BitVec 32 := 1#32
  let arg13 : BitVec 32 := Scf.iv v1297 c1_i32_1197 k1_t147
  let v1828 : Index := Scalar.indexCast arg13
  let c64 : Index := 64#32
  ![v1828.toNat, 64]
def k1_off588 (i : grid1.Coords) (v364 : BitVec 32) (v370 : BitVec 32) (k1_t147 : Fin (k1_t147_loop i v364 v370).trips) : Fin 2 → Nat :=
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let c1_i32_1197 : BitVec 32 := 1#32
  let arg13 : BitVec 32 := Scf.iv v1297 c1_i32_1197 k1_t147
  let v1832 : Index := Scalar.indexCast arg13
  let c80 : Index := 80#32
  ![v1832.toNat, 80]
def k1_off589 (i : grid1.Coords) (v364 : BitVec 32) (v370 : BitVec 32) (k1_t147 : Fin (k1_t147_loop i v364 v370).trips) : Fin 2 → Nat :=
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let c1_i32_1197 : BitVec 32 := 1#32
  let arg13 : BitVec 32 := Scf.iv v1297 c1_i32_1197 k1_t147
  let v1836 : Index := Scalar.indexCast arg13
  let c96 : Index := 96#32
  ![v1836.toNat, 96]
def k1_off590 (i : grid1.Coords) (v364 : BitVec 32) (v370 : BitVec 32) (k1_t147 : Fin (k1_t147_loop i v364 v370).trips) : Fin 2 → Nat :=
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let c1_i32_1197 : BitVec 32 := 1#32
  let arg13 : BitVec 32 := Scf.iv v1297 c1_i32_1197 k1_t147
  let v1840 : Index := Scalar.indexCast arg13
  let c112 : Index := 112#32
  ![v1840.toNat, 112]
@[reducible] def k1_t148_loop (i : grid1.Coords) (v364 : BitVec 32) (v370 : BitVec 32) : Scf.Loop 32 :=
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let c256_i32_805 : BitVec 32 := 256#32
  let c0_i32_804 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c512_i32_803 : BitVec 32 := 512#32
  let v1298 : BitVec 32 := Scalar.subi v374 c512_i32_803
  let v1299 : BitVec 32 := Scalar.maxsi c0_i32_804 v1298
  let v1300 : BitVec 32 := Scalar.minsi c256_i32_805 v1299
  let v1805 : BitVec 32 := Scalar.subi v1300 v1297
  let c1_i32_1196 : BitVec 32 := 1#32
  let v1807 : BitVec 32 := Scalar.divsi v1805 c1_i32_1196
  let v1808 : BitVec 32 := Scalar.muli v1807 c1_i32_1196
  let v1809 : BitVec 32 := Scalar.addi v1297 v1808
  let v1806 : BitVec 32 := Scalar.addi v1297 v1805
  let c1_i32_1198 : BitVec 32 := 1#32
  ⟨v1809, v1806, c1_i32_1198⟩
def k1_off591 (i : grid1.Coords) (v364 : BitVec 32) (v370 : BitVec 32) (k1_t148 : Fin (k1_t148_loop i v364 v370).trips) : Fin 2 → Nat :=
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let c256_i32_805 : BitVec 32 := 256#32
  let c0_i32_804 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c512_i32_803 : BitVec 32 := 512#32
  let v1298 : BitVec 32 := Scalar.subi v374 c512_i32_803
  let v1299 : BitVec 32 := Scalar.maxsi c0_i32_804 v1298
  let v1300 : BitVec 32 := Scalar.minsi c256_i32_805 v1299
  let v1805 : BitVec 32 := Scalar.subi v1300 v1297
  let c1_i32_1196 : BitVec 32 := 1#32
  let v1807 : BitVec 32 := Scalar.divsi v1805 c1_i32_1196
  let v1808 : BitVec 32 := Scalar.muli v1807 c1_i32_1196
  let v1809 : BitVec 32 := Scalar.addi v1297 v1808
  let c1_i32_1198 : BitVec 32 := 1#32
  let arg13 : BitVec 32 := Scf.iv v1809 c1_i32_1198 k1_t148
  let v1828 : Index := Scalar.indexCast arg13
  let c64 : Index := 64#32
  ![v1828.toNat, 64]
def k1_off592 (i : grid1.Coords) (v364 : BitVec 32) (v370 : BitVec 32) (k1_t148 : Fin (k1_t148_loop i v364 v370).trips) : Fin 2 → Nat :=
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let c256_i32_805 : BitVec 32 := 256#32
  let c0_i32_804 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c512_i32_803 : BitVec 32 := 512#32
  let v1298 : BitVec 32 := Scalar.subi v374 c512_i32_803
  let v1299 : BitVec 32 := Scalar.maxsi c0_i32_804 v1298
  let v1300 : BitVec 32 := Scalar.minsi c256_i32_805 v1299
  let v1805 : BitVec 32 := Scalar.subi v1300 v1297
  let c1_i32_1196 : BitVec 32 := 1#32
  let v1807 : BitVec 32 := Scalar.divsi v1805 c1_i32_1196
  let v1808 : BitVec 32 := Scalar.muli v1807 c1_i32_1196
  let v1809 : BitVec 32 := Scalar.addi v1297 v1808
  let c1_i32_1198 : BitVec 32 := 1#32
  let arg13 : BitVec 32 := Scf.iv v1809 c1_i32_1198 k1_t148
  let v1832 : Index := Scalar.indexCast arg13
  let c80 : Index := 80#32
  ![v1832.toNat, 80]
def k1_off593 (i : grid1.Coords) (v364 : BitVec 32) (v370 : BitVec 32) (k1_t148 : Fin (k1_t148_loop i v364 v370).trips) : Fin 2 → Nat :=
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let c256_i32_805 : BitVec 32 := 256#32
  let c0_i32_804 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c512_i32_803 : BitVec 32 := 512#32
  let v1298 : BitVec 32 := Scalar.subi v374 c512_i32_803
  let v1299 : BitVec 32 := Scalar.maxsi c0_i32_804 v1298
  let v1300 : BitVec 32 := Scalar.minsi c256_i32_805 v1299
  let v1805 : BitVec 32 := Scalar.subi v1300 v1297
  let c1_i32_1196 : BitVec 32 := 1#32
  let v1807 : BitVec 32 := Scalar.divsi v1805 c1_i32_1196
  let v1808 : BitVec 32 := Scalar.muli v1807 c1_i32_1196
  let v1809 : BitVec 32 := Scalar.addi v1297 v1808
  let c1_i32_1198 : BitVec 32 := 1#32
  let arg13 : BitVec 32 := Scf.iv v1809 c1_i32_1198 k1_t148
  let v1836 : Index := Scalar.indexCast arg13
  let c96 : Index := 96#32
  ![v1836.toNat, 96]
def k1_off594 (i : grid1.Coords) (v364 : BitVec 32) (v370 : BitVec 32) (k1_t148 : Fin (k1_t148_loop i v364 v370).trips) : Fin 2 → Nat :=
  let c256_i32_802 : BitVec 32 := 256#32
  let c0_i32_801 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c512_i32_800 : BitVec 32 := 512#32
  let v1295 : BitVec 32 := Scalar.subi v368 c512_i32_800
  let v1296 : BitVec 32 := Scalar.maxsi c0_i32_801 v1295
  let v1297 : BitVec 32 := Scalar.minsi c256_i32_802 v1296
  let c256_i32_805 : BitVec 32 := 256#32
  let c0_i32_804 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c512_i32_803 : BitVec 32 := 512#32
  let v1298 : BitVec 32 := Scalar.subi v374 c512_i32_803
  let v1299 : BitVec 32 := Scalar.maxsi c0_i32_804 v1298
  let v1300 : BitVec 32 := Scalar.minsi c256_i32_805 v1299
  let v1805 : BitVec 32 := Scalar.subi v1300 v1297
  let c1_i32_1196 : BitVec 32 := 1#32
  let v1807 : BitVec 32 := Scalar.divsi v1805 c1_i32_1196
  let v1808 : BitVec 32 := Scalar.muli v1807 c1_i32_1196
  let v1809 : BitVec 32 := Scalar.addi v1297 v1808
  let c1_i32_1198 : BitVec 32 := 1#32
  let arg13 : BitVec 32 := Scf.iv v1809 c1_i32_1198 k1_t148
  let v1840 : Index := Scalar.indexCast arg13
  let c112 : Index := 112#32
  ![v1840.toNat, 112]
@[reducible] def k1_t149_loop (i : grid1.Coords) (v376 : BitVec 32) (v381 : BitVec 32) : Scf.Loop 32 :=
  let c256_i32_809 : BitVec 32 := 256#32
  let c0_i32_808 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let c256_i32_812 : BitVec 32 := 256#32
  let c0_i32_811 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c512_i32_810 : BitVec 32 := 512#32
  let v1307 : BitVec 32 := Scalar.subi v384 c512_i32_810
  let v1308 : BitVec 32 := Scalar.maxsi c0_i32_811 v1307
  let v1309 : BitVec 32 := Scalar.minsi c256_i32_812 v1308
  let v1805 : BitVec 32 := Scalar.subi v1309 v1306
  let c1_i32_1196 : BitVec 32 := 1#32
  let v1807 : BitVec 32 := Scalar.divsi v1805 c1_i32_1196
  let v1808 : BitVec 32 := Scalar.muli v1807 c1_i32_1196
  let v1809 : BitVec 32 := Scalar.addi v1306 v1808
  let c1_i32_1197 : BitVec 32 := 1#32
  ⟨v1306, v1809, c1_i32_1197⟩
def k1_cond75 (i : grid1.Coords) (v376 : BitVec 32) (v381 : BitVec 32) : BitVec 1 :=
  let c256_i32_812 : BitVec 32 := 256#32
  let c0_i32_811 : BitVec 32 := 0#32
  let c1024_i32_164 : BitVec 32 := 1024#32
  let c0_i32_163 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v382 : BitVec 32 := Scalar.subi v381 v3
  let v383 : BitVec 32 := Scalar.maxsi c0_i32_163 v382
  let v384 : BitVec 32 := Scalar.minsi c1024_i32_164 v383
  let c512_i32_810 : BitVec 32 := 512#32
  let v1307 : BitVec 32 := Scalar.subi v384 c512_i32_810
  let v1308 : BitVec 32 := Scalar.maxsi c0_i32_811 v1307
  let v1309 : BitVec 32 := Scalar.minsi c256_i32_812 v1308
  let c256_i32_809 : BitVec 32 := 256#32
  let c0_i32_808 : BitVec 32 := 0#32
  let c1024_i32_162 : BitVec 32 := 1024#32
  let c0_i32_161 : BitVec 32 := 0#32
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let v1310 : BitVec 1 := Scalar.cmpi .sgt v1309 v1306
  let v1311 : BitVec 32 := Scalar.extui v1310
  let c0_i32_813 : BitVec 32 := 0#32
  let v1312 : BitVec 1 := Scalar.cmpi .ne v1311 c0_i32_813
  v1312

def k1_off595 (i : grid1.Coords) (v376 : BitVec 32) (v381 : BitVec 32) (k1_t149 : Fin (k1_t149_loop i v376 v381).trips) : Fin 2 → Nat :=
  let c256_i32_809 : BitVec 32 := 256#32
  let c0_i32_808 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let c1_i32_1197 : BitVec 32 := 1#32
  let arg13 : BitVec 32 := Scf.iv v1306 c1_i32_1197 k1_t149
  let v1828 : Index := Scalar.indexCast arg13
  let c0_1207 : Index := 0#32
  ![v1828.toNat, 0]
def k1_off596 (i : grid1.Coords) (v376 : BitVec 32) (v381 : BitVec 32) (k1_t149 : Fin (k1_t149_loop i v376 v381).trips) : Fin 2 → Nat :=
  let c256_i32_809 : BitVec 32 := 256#32
  let c0_i32_808 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let c1_i32_1197 : BitVec 32 := 1#32
  let arg13 : BitVec 32 := Scf.iv v1306 c1_i32_1197 k1_t149
  let v1832 : Index := Scalar.indexCast arg13
  let c16_1208 : Index := 16#32
  ![v1832.toNat, 16]
def k1_off597 (i : grid1.Coords) (v376 : BitVec 32) (v381 : BitVec 32) (k1_t149 : Fin (k1_t149_loop i v376 v381).trips) : Fin 2 → Nat :=
  let c256_i32_809 : BitVec 32 := 256#32
  let c0_i32_808 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let c1_i32_1197 : BitVec 32 := 1#32
  let arg13 : BitVec 32 := Scf.iv v1306 c1_i32_1197 k1_t149
  let v1836 : Index := Scalar.indexCast arg13
  let c32_1209 : Index := 32#32
  ![v1836.toNat, 32]
def k1_off598 (i : grid1.Coords) (v376 : BitVec 32) (v381 : BitVec 32) (k1_t149 : Fin (k1_t149_loop i v376 v381).trips) : Fin 2 → Nat :=
  let c256_i32_809 : BitVec 32 := 256#32
  let c0_i32_808 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let c1_i32_1197 : BitVec 32 := 1#32
  let arg13 : BitVec 32 := Scf.iv v1306 c1_i32_1197 k1_t149
  let v1840 : Index := Scalar.indexCast arg13
  let c48_1210 : Index := 48#32
  ![v1840.toNat, 48]
@[reducible] def k1_t150_loop (i : grid1.Coords) (v376 : BitVec 32) (v381 : BitVec 32) : Scf.Loop 32 :=
  let c256_i32_809 : BitVec 32 := 256#32
  let c0_i32_808 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let c256_i32_812 : BitVec 32 := 256#32
  let c0_i32_811 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c512_i32_810 : BitVec 32 := 512#32
  let v1307 : BitVec 32 := Scalar.subi v384 c512_i32_810
  let v1308 : BitVec 32 := Scalar.maxsi c0_i32_811 v1307
  let v1309 : BitVec 32 := Scalar.minsi c256_i32_812 v1308
  let v1805 : BitVec 32 := Scalar.subi v1309 v1306
  let c1_i32_1196 : BitVec 32 := 1#32
  let v1807 : BitVec 32 := Scalar.divsi v1805 c1_i32_1196
  let v1808 : BitVec 32 := Scalar.muli v1807 c1_i32_1196
  let v1809 : BitVec 32 := Scalar.addi v1306 v1808
  let v1806 : BitVec 32 := Scalar.addi v1306 v1805
  let c1_i32_1198 : BitVec 32 := 1#32
  ⟨v1809, v1806, c1_i32_1198⟩
def k1_off599 (i : grid1.Coords) (v376 : BitVec 32) (v381 : BitVec 32) (k1_t150 : Fin (k1_t150_loop i v376 v381).trips) : Fin 2 → Nat :=
  let c256_i32_809 : BitVec 32 := 256#32
  let c0_i32_808 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let c256_i32_812 : BitVec 32 := 256#32
  let c0_i32_811 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c512_i32_810 : BitVec 32 := 512#32
  let v1307 : BitVec 32 := Scalar.subi v384 c512_i32_810
  let v1308 : BitVec 32 := Scalar.maxsi c0_i32_811 v1307
  let v1309 : BitVec 32 := Scalar.minsi c256_i32_812 v1308
  let v1805 : BitVec 32 := Scalar.subi v1309 v1306
  let c1_i32_1196 : BitVec 32 := 1#32
  let v1807 : BitVec 32 := Scalar.divsi v1805 c1_i32_1196
  let v1808 : BitVec 32 := Scalar.muli v1807 c1_i32_1196
  let v1809 : BitVec 32 := Scalar.addi v1306 v1808
  let c1_i32_1198 : BitVec 32 := 1#32
  let arg13 : BitVec 32 := Scf.iv v1809 c1_i32_1198 k1_t150
  let v1828 : Index := Scalar.indexCast arg13
  let c0_1207 : Index := 0#32
  ![v1828.toNat, 0]
def k1_off600 (i : grid1.Coords) (v376 : BitVec 32) (v381 : BitVec 32) (k1_t150 : Fin (k1_t150_loop i v376 v381).trips) : Fin 2 → Nat :=
  let c256_i32_809 : BitVec 32 := 256#32
  let c0_i32_808 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let c256_i32_812 : BitVec 32 := 256#32
  let c0_i32_811 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c512_i32_810 : BitVec 32 := 512#32
  let v1307 : BitVec 32 := Scalar.subi v384 c512_i32_810
  let v1308 : BitVec 32 := Scalar.maxsi c0_i32_811 v1307
  let v1309 : BitVec 32 := Scalar.minsi c256_i32_812 v1308
  let v1805 : BitVec 32 := Scalar.subi v1309 v1306
  let c1_i32_1196 : BitVec 32 := 1#32
  let v1807 : BitVec 32 := Scalar.divsi v1805 c1_i32_1196
  let v1808 : BitVec 32 := Scalar.muli v1807 c1_i32_1196
  let v1809 : BitVec 32 := Scalar.addi v1306 v1808
  let c1_i32_1198 : BitVec 32 := 1#32
  let arg13 : BitVec 32 := Scf.iv v1809 c1_i32_1198 k1_t150
  let v1832 : Index := Scalar.indexCast arg13
  let c16_1208 : Index := 16#32
  ![v1832.toNat, 16]
def k1_off601 (i : grid1.Coords) (v376 : BitVec 32) (v381 : BitVec 32) (k1_t150 : Fin (k1_t150_loop i v376 v381).trips) : Fin 2 → Nat :=
  let c256_i32_809 : BitVec 32 := 256#32
  let c0_i32_808 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let c256_i32_812 : BitVec 32 := 256#32
  let c0_i32_811 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c512_i32_810 : BitVec 32 := 512#32
  let v1307 : BitVec 32 := Scalar.subi v384 c512_i32_810
  let v1308 : BitVec 32 := Scalar.maxsi c0_i32_811 v1307
  let v1309 : BitVec 32 := Scalar.minsi c256_i32_812 v1308
  let v1805 : BitVec 32 := Scalar.subi v1309 v1306
  let c1_i32_1196 : BitVec 32 := 1#32
  let v1807 : BitVec 32 := Scalar.divsi v1805 c1_i32_1196
  let v1808 : BitVec 32 := Scalar.muli v1807 c1_i32_1196
  let v1809 : BitVec 32 := Scalar.addi v1306 v1808
  let c1_i32_1198 : BitVec 32 := 1#32
  let arg13 : BitVec 32 := Scf.iv v1809 c1_i32_1198 k1_t150
  let v1836 : Index := Scalar.indexCast arg13
  let c32_1209 : Index := 32#32
  ![v1836.toNat, 32]
def k1_off602 (i : grid1.Coords) (v376 : BitVec 32) (v381 : BitVec 32) (k1_t150 : Fin (k1_t150_loop i v376 v381).trips) : Fin 2 → Nat :=
  let c256_i32_809 : BitVec 32 := 256#32
  let c0_i32_808 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c512_i32_807 : BitVec 32 := 512#32
  let v1304 : BitVec 32 := Scalar.subi v379 c512_i32_807
  let v1305 : BitVec 32 := Scalar.maxsi c0_i32_808 v1304
  let v1306 : BitVec 32 := Scalar.minsi c256_i32_809 v1305
  let c256_i32_812 : BitVec 32 := 256#32
  let c0_i32_811 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c512_i32_810 : BitVec 32 := 512#32
  let v1307 : BitVec 32 := Scalar.subi v384 c512_i32_810
  let v1308 : BitVec 32 := Scalar.maxsi c0_i32_811 v1307
  let v1309 : BitVec 32 := Scalar.minsi c256_i32_812 v1308
  let v1805 : BitVec 32 := Scalar.subi v1309 v1306
  let c1_i32_1196 : BitVec 32 := 1#32
  let v1807 : BitVec 32 := Scalar.divsi v1805 c1_i32_1196
  let v1808 : BitVec 32 := Scalar.muli v1807 c1_i32_1196
  let v1809 : BitVec 32 := Scalar.addi v1306 v1808
  let c1_i32_1198 : BitVec 32 := 1#32
  let arg13 : BitVec 32 := Scf.iv v1809 c1_i32_1198 k1_t150
  let v1840 : Index := Scalar.indexCast arg13
  let c48_1210 : Index := 48#32
  ![v1840.toNat, 48]
@[reducible] def k1_t151_loop (i : grid1.Coords) (v386 : BitVec 32) (v392 : BitVec 32) : Scf.Loop 32 :=
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let c256_i32_819 : BitVec 32 := 256#32
  let c0_i32_818 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c512_i32_817 : BitVec 32 := 512#32
  let v1316 : BitVec 32 := Scalar.subi v396 c512_i32_817
  let v1317 : BitVec 32 := Scalar.maxsi c0_i32_818 v1316
  let v1318 : BitVec 32 := Scalar.minsi c256_i32_819 v1317
  let v1805 : BitVec 32 := Scalar.subi v1318 v1315
  let c1_i32_1196 : BitVec 32 := 1#32
  let v1807 : BitVec 32 := Scalar.divsi v1805 c1_i32_1196
  let v1808 : BitVec 32 := Scalar.muli v1807 c1_i32_1196
  let v1809 : BitVec 32 := Scalar.addi v1315 v1808
  let c1_i32_1197 : BitVec 32 := 1#32
  ⟨v1315, v1809, c1_i32_1197⟩
def k1_cond76 (i : grid1.Coords) (v386 : BitVec 32) (v392 : BitVec 32) : BitVec 1 :=
  let c256_i32_819 : BitVec 32 := 256#32
  let c0_i32_818 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v394 : BitVec 32 := Scalar.subi v393 v3
  let v395 : BitVec 32 := Scalar.maxsi c0_i32_169 v394
  let v396 : BitVec 32 := Scalar.minsi c1024_i32_170 v395
  let c512_i32_817 : BitVec 32 := 512#32
  let v1316 : BitVec 32 := Scalar.subi v396 c512_i32_817
  let v1317 : BitVec 32 := Scalar.maxsi c0_i32_818 v1316
  let v1318 : BitVec 32 := Scalar.minsi c256_i32_819 v1317
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let v1319 : BitVec 1 := Scalar.cmpi .sgt v1318 v1315
  let v1320 : BitVec 32 := Scalar.extui v1319
  let c0_i32_820 : BitVec 32 := 0#32
  let v1321 : BitVec 1 := Scalar.cmpi .ne v1320 c0_i32_820
  v1321

def k1_off603 (i : grid1.Coords) (v386 : BitVec 32) (v392 : BitVec 32) (k1_t151 : Fin (k1_t151_loop i v386 v392).trips) : Fin 2 → Nat :=
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let c1_i32_1197 : BitVec 32 := 1#32
  let arg13 : BitVec 32 := Scf.iv v1315 c1_i32_1197 k1_t151
  let v1828 : Index := Scalar.indexCast arg13
  let c64 : Index := 64#32
  ![v1828.toNat, 64]
def k1_off604 (i : grid1.Coords) (v386 : BitVec 32) (v392 : BitVec 32) (k1_t151 : Fin (k1_t151_loop i v386 v392).trips) : Fin 2 → Nat :=
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let c1_i32_1197 : BitVec 32 := 1#32
  let arg13 : BitVec 32 := Scf.iv v1315 c1_i32_1197 k1_t151
  let v1832 : Index := Scalar.indexCast arg13
  let c80 : Index := 80#32
  ![v1832.toNat, 80]
def k1_off605 (i : grid1.Coords) (v386 : BitVec 32) (v392 : BitVec 32) (k1_t151 : Fin (k1_t151_loop i v386 v392).trips) : Fin 2 → Nat :=
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let c1_i32_1197 : BitVec 32 := 1#32
  let arg13 : BitVec 32 := Scf.iv v1315 c1_i32_1197 k1_t151
  let v1836 : Index := Scalar.indexCast arg13
  let c96 : Index := 96#32
  ![v1836.toNat, 96]
def k1_off606 (i : grid1.Coords) (v386 : BitVec 32) (v392 : BitVec 32) (k1_t151 : Fin (k1_t151_loop i v386 v392).trips) : Fin 2 → Nat :=
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let c1_i32_1197 : BitVec 32 := 1#32
  let arg13 : BitVec 32 := Scf.iv v1315 c1_i32_1197 k1_t151
  let v1840 : Index := Scalar.indexCast arg13
  let c112 : Index := 112#32
  ![v1840.toNat, 112]
@[reducible] def k1_t152_loop (i : grid1.Coords) (v386 : BitVec 32) (v392 : BitVec 32) : Scf.Loop 32 :=
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let c256_i32_819 : BitVec 32 := 256#32
  let c0_i32_818 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c512_i32_817 : BitVec 32 := 512#32
  let v1316 : BitVec 32 := Scalar.subi v396 c512_i32_817
  let v1317 : BitVec 32 := Scalar.maxsi c0_i32_818 v1316
  let v1318 : BitVec 32 := Scalar.minsi c256_i32_819 v1317
  let v1805 : BitVec 32 := Scalar.subi v1318 v1315
  let c1_i32_1196 : BitVec 32 := 1#32
  let v1807 : BitVec 32 := Scalar.divsi v1805 c1_i32_1196
  let v1808 : BitVec 32 := Scalar.muli v1807 c1_i32_1196
  let v1809 : BitVec 32 := Scalar.addi v1315 v1808
  let v1806 : BitVec 32 := Scalar.addi v1315 v1805
  let c1_i32_1198 : BitVec 32 := 1#32
  ⟨v1809, v1806, c1_i32_1198⟩
def k1_off607 (i : grid1.Coords) (v386 : BitVec 32) (v392 : BitVec 32) (k1_t152 : Fin (k1_t152_loop i v386 v392).trips) : Fin 2 → Nat :=
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let c256_i32_819 : BitVec 32 := 256#32
  let c0_i32_818 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c512_i32_817 : BitVec 32 := 512#32
  let v1316 : BitVec 32 := Scalar.subi v396 c512_i32_817
  let v1317 : BitVec 32 := Scalar.maxsi c0_i32_818 v1316
  let v1318 : BitVec 32 := Scalar.minsi c256_i32_819 v1317
  let v1805 : BitVec 32 := Scalar.subi v1318 v1315
  let c1_i32_1196 : BitVec 32 := 1#32
  let v1807 : BitVec 32 := Scalar.divsi v1805 c1_i32_1196
  let v1808 : BitVec 32 := Scalar.muli v1807 c1_i32_1196
  let v1809 : BitVec 32 := Scalar.addi v1315 v1808
  let c1_i32_1198 : BitVec 32 := 1#32
  let arg13 : BitVec 32 := Scf.iv v1809 c1_i32_1198 k1_t152
  let v1828 : Index := Scalar.indexCast arg13
  let c64 : Index := 64#32
  ![v1828.toNat, 64]
def k1_off608 (i : grid1.Coords) (v386 : BitVec 32) (v392 : BitVec 32) (k1_t152 : Fin (k1_t152_loop i v386 v392).trips) : Fin 2 → Nat :=
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let c256_i32_819 : BitVec 32 := 256#32
  let c0_i32_818 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c512_i32_817 : BitVec 32 := 512#32
  let v1316 : BitVec 32 := Scalar.subi v396 c512_i32_817
  let v1317 : BitVec 32 := Scalar.maxsi c0_i32_818 v1316
  let v1318 : BitVec 32 := Scalar.minsi c256_i32_819 v1317
  let v1805 : BitVec 32 := Scalar.subi v1318 v1315
  let c1_i32_1196 : BitVec 32 := 1#32
  let v1807 : BitVec 32 := Scalar.divsi v1805 c1_i32_1196
  let v1808 : BitVec 32 := Scalar.muli v1807 c1_i32_1196
  let v1809 : BitVec 32 := Scalar.addi v1315 v1808
  let c1_i32_1198 : BitVec 32 := 1#32
  let arg13 : BitVec 32 := Scf.iv v1809 c1_i32_1198 k1_t152
  let v1832 : Index := Scalar.indexCast arg13
  let c80 : Index := 80#32
  ![v1832.toNat, 80]
def k1_off609 (i : grid1.Coords) (v386 : BitVec 32) (v392 : BitVec 32) (k1_t152 : Fin (k1_t152_loop i v386 v392).trips) : Fin 2 → Nat :=
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let c256_i32_819 : BitVec 32 := 256#32
  let c0_i32_818 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c512_i32_817 : BitVec 32 := 512#32
  let v1316 : BitVec 32 := Scalar.subi v396 c512_i32_817
  let v1317 : BitVec 32 := Scalar.maxsi c0_i32_818 v1316
  let v1318 : BitVec 32 := Scalar.minsi c256_i32_819 v1317
  let v1805 : BitVec 32 := Scalar.subi v1318 v1315
  let c1_i32_1196 : BitVec 32 := 1#32
  let v1807 : BitVec 32 := Scalar.divsi v1805 c1_i32_1196
  let v1808 : BitVec 32 := Scalar.muli v1807 c1_i32_1196
  let v1809 : BitVec 32 := Scalar.addi v1315 v1808
  let c1_i32_1198 : BitVec 32 := 1#32
  let arg13 : BitVec 32 := Scf.iv v1809 c1_i32_1198 k1_t152
  let v1836 : Index := Scalar.indexCast arg13
  let c96 : Index := 96#32
  ![v1836.toNat, 96]
def k1_off610 (i : grid1.Coords) (v386 : BitVec 32) (v392 : BitVec 32) (k1_t152 : Fin (k1_t152_loop i v386 v392).trips) : Fin 2 → Nat :=
  let c256_i32_816 : BitVec 32 := 256#32
  let c0_i32_815 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c512_i32_814 : BitVec 32 := 512#32
  let v1313 : BitVec 32 := Scalar.subi v390 c512_i32_814
  let v1314 : BitVec 32 := Scalar.maxsi c0_i32_815 v1313
  let v1315 : BitVec 32 := Scalar.minsi c256_i32_816 v1314
  let c256_i32_819 : BitVec 32 := 256#32
  let c0_i32_818 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c512_i32_817 : BitVec 32 := 512#32
  let v1316 : BitVec 32 := Scalar.subi v396 c512_i32_817
  let v1317 : BitVec 32 := Scalar.maxsi c0_i32_818 v1316
  let v1318 : BitVec 32 := Scalar.minsi c256_i32_819 v1317
  let v1805 : BitVec 32 := Scalar.subi v1318 v1315
  let c1_i32_1196 : BitVec 32 := 1#32
  let v1807 : BitVec 32 := Scalar.divsi v1805 c1_i32_1196
  let v1808 : BitVec 32 := Scalar.muli v1807 c1_i32_1196
  let v1809 : BitVec 32 := Scalar.addi v1315 v1808
  let c1_i32_1198 : BitVec 32 := 1#32
  let arg13 : BitVec 32 := Scf.iv v1809 c1_i32_1198 k1_t152
  let v1840 : Index := Scalar.indexCast arg13
  let c112 : Index := 112#32
  ![v1840.toNat, 112]
@[reducible] def k1_t153_loop (i : grid1.Coords) (v398 : BitVec 32) (v403 : BitVec 32) : Scf.Loop 32 :=
  let c256_i32_823 : BitVec 32 := 256#32
  let c0_i32_822 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let c256_i32_826 : BitVec 32 := 256#32
  let c0_i32_825 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c512_i32_824 : BitVec 32 := 512#32
  let v1325 : BitVec 32 := Scalar.subi v406 c512_i32_824
  let v1326 : BitVec 32 := Scalar.maxsi c0_i32_825 v1325
  let v1327 : BitVec 32 := Scalar.minsi c256_i32_826 v1326
  let v1805 : BitVec 32 := Scalar.subi v1327 v1324
  let c1_i32_1196 : BitVec 32 := 1#32
  let v1807 : BitVec 32 := Scalar.divsi v1805 c1_i32_1196
  let v1808 : BitVec 32 := Scalar.muli v1807 c1_i32_1196
  let v1809 : BitVec 32 := Scalar.addi v1324 v1808
  let c1_i32_1197 : BitVec 32 := 1#32
  ⟨v1324, v1809, c1_i32_1197⟩
def k1_cond77 (i : grid1.Coords) (v398 : BitVec 32) (v403 : BitVec 32) : BitVec 1 :=
  let c256_i32_826 : BitVec 32 := 256#32
  let c0_i32_825 : BitVec 32 := 0#32
  let c1024_i32_174 : BitVec 32 := 1024#32
  let c0_i32_173 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v404 : BitVec 32 := Scalar.subi v403 v3
  let v405 : BitVec 32 := Scalar.maxsi c0_i32_173 v404
  let v406 : BitVec 32 := Scalar.minsi c1024_i32_174 v405
  let c512_i32_824 : BitVec 32 := 512#32
  let v1325 : BitVec 32 := Scalar.subi v406 c512_i32_824
  let v1326 : BitVec 32 := Scalar.maxsi c0_i32_825 v1325
  let v1327 : BitVec 32 := Scalar.minsi c256_i32_826 v1326
  let c256_i32_823 : BitVec 32 := 256#32
  let c0_i32_822 : BitVec 32 := 0#32
  let c1024_i32_172 : BitVec 32 := 1024#32
  let c0_i32_171 : BitVec 32 := 0#32
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let v1328 : BitVec 1 := Scalar.cmpi .sgt v1327 v1324
  let v1329 : BitVec 32 := Scalar.extui v1328
  let c0_i32_827 : BitVec 32 := 0#32
  let v1330 : BitVec 1 := Scalar.cmpi .ne v1329 c0_i32_827
  v1330

def k1_off611 (i : grid1.Coords) (v398 : BitVec 32) (v403 : BitVec 32) (k1_t153 : Fin (k1_t153_loop i v398 v403).trips) : Fin 2 → Nat :=
  let c256_i32_823 : BitVec 32 := 256#32
  let c0_i32_822 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let c1_i32_1197 : BitVec 32 := 1#32
  let arg13 : BitVec 32 := Scf.iv v1324 c1_i32_1197 k1_t153
  let v1828 : Index := Scalar.indexCast arg13
  let c0_1207 : Index := 0#32
  ![v1828.toNat, 0]
def k1_off612 (i : grid1.Coords) (v398 : BitVec 32) (v403 : BitVec 32) (k1_t153 : Fin (k1_t153_loop i v398 v403).trips) : Fin 2 → Nat :=
  let c256_i32_823 : BitVec 32 := 256#32
  let c0_i32_822 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let c1_i32_1197 : BitVec 32 := 1#32
  let arg13 : BitVec 32 := Scf.iv v1324 c1_i32_1197 k1_t153
  let v1832 : Index := Scalar.indexCast arg13
  let c16_1208 : Index := 16#32
  ![v1832.toNat, 16]
def k1_off613 (i : grid1.Coords) (v398 : BitVec 32) (v403 : BitVec 32) (k1_t153 : Fin (k1_t153_loop i v398 v403).trips) : Fin 2 → Nat :=
  let c256_i32_823 : BitVec 32 := 256#32
  let c0_i32_822 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let c1_i32_1197 : BitVec 32 := 1#32
  let arg13 : BitVec 32 := Scf.iv v1324 c1_i32_1197 k1_t153
  let v1836 : Index := Scalar.indexCast arg13
  let c32_1209 : Index := 32#32
  ![v1836.toNat, 32]
def k1_off614 (i : grid1.Coords) (v398 : BitVec 32) (v403 : BitVec 32) (k1_t153 : Fin (k1_t153_loop i v398 v403).trips) : Fin 2 → Nat :=
  let c256_i32_823 : BitVec 32 := 256#32
  let c0_i32_822 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let c1_i32_1197 : BitVec 32 := 1#32
  let arg13 : BitVec 32 := Scf.iv v1324 c1_i32_1197 k1_t153
  let v1840 : Index := Scalar.indexCast arg13
  let c48_1210 : Index := 48#32
  ![v1840.toNat, 48]
@[reducible] def k1_t154_loop (i : grid1.Coords) (v398 : BitVec 32) (v403 : BitVec 32) : Scf.Loop 32 :=
  let c256_i32_823 : BitVec 32 := 256#32
  let c0_i32_822 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let c256_i32_826 : BitVec 32 := 256#32
  let c0_i32_825 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c512_i32_824 : BitVec 32 := 512#32
  let v1325 : BitVec 32 := Scalar.subi v406 c512_i32_824
  let v1326 : BitVec 32 := Scalar.maxsi c0_i32_825 v1325
  let v1327 : BitVec 32 := Scalar.minsi c256_i32_826 v1326
  let v1805 : BitVec 32 := Scalar.subi v1327 v1324
  let c1_i32_1196 : BitVec 32 := 1#32
  let v1807 : BitVec 32 := Scalar.divsi v1805 c1_i32_1196
  let v1808 : BitVec 32 := Scalar.muli v1807 c1_i32_1196
  let v1809 : BitVec 32 := Scalar.addi v1324 v1808
  let v1806 : BitVec 32 := Scalar.addi v1324 v1805
  let c1_i32_1198 : BitVec 32 := 1#32
  ⟨v1809, v1806, c1_i32_1198⟩
def k1_off615 (i : grid1.Coords) (v398 : BitVec 32) (v403 : BitVec 32) (k1_t154 : Fin (k1_t154_loop i v398 v403).trips) : Fin 2 → Nat :=
  let c256_i32_823 : BitVec 32 := 256#32
  let c0_i32_822 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let c256_i32_826 : BitVec 32 := 256#32
  let c0_i32_825 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c512_i32_824 : BitVec 32 := 512#32
  let v1325 : BitVec 32 := Scalar.subi v406 c512_i32_824
  let v1326 : BitVec 32 := Scalar.maxsi c0_i32_825 v1325
  let v1327 : BitVec 32 := Scalar.minsi c256_i32_826 v1326
  let v1805 : BitVec 32 := Scalar.subi v1327 v1324
  let c1_i32_1196 : BitVec 32 := 1#32
  let v1807 : BitVec 32 := Scalar.divsi v1805 c1_i32_1196
  let v1808 : BitVec 32 := Scalar.muli v1807 c1_i32_1196
  let v1809 : BitVec 32 := Scalar.addi v1324 v1808
  let c1_i32_1198 : BitVec 32 := 1#32
  let arg13 : BitVec 32 := Scf.iv v1809 c1_i32_1198 k1_t154
  let v1828 : Index := Scalar.indexCast arg13
  let c0_1207 : Index := 0#32
  ![v1828.toNat, 0]
def k1_off616 (i : grid1.Coords) (v398 : BitVec 32) (v403 : BitVec 32) (k1_t154 : Fin (k1_t154_loop i v398 v403).trips) : Fin 2 → Nat :=
  let c256_i32_823 : BitVec 32 := 256#32
  let c0_i32_822 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let c256_i32_826 : BitVec 32 := 256#32
  let c0_i32_825 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c512_i32_824 : BitVec 32 := 512#32
  let v1325 : BitVec 32 := Scalar.subi v406 c512_i32_824
  let v1326 : BitVec 32 := Scalar.maxsi c0_i32_825 v1325
  let v1327 : BitVec 32 := Scalar.minsi c256_i32_826 v1326
  let v1805 : BitVec 32 := Scalar.subi v1327 v1324
  let c1_i32_1196 : BitVec 32 := 1#32
  let v1807 : BitVec 32 := Scalar.divsi v1805 c1_i32_1196
  let v1808 : BitVec 32 := Scalar.muli v1807 c1_i32_1196
  let v1809 : BitVec 32 := Scalar.addi v1324 v1808
  let c1_i32_1198 : BitVec 32 := 1#32
  let arg13 : BitVec 32 := Scf.iv v1809 c1_i32_1198 k1_t154
  let v1832 : Index := Scalar.indexCast arg13
  let c16_1208 : Index := 16#32
  ![v1832.toNat, 16]
def k1_off617 (i : grid1.Coords) (v398 : BitVec 32) (v403 : BitVec 32) (k1_t154 : Fin (k1_t154_loop i v398 v403).trips) : Fin 2 → Nat :=
  let c256_i32_823 : BitVec 32 := 256#32
  let c0_i32_822 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let c256_i32_826 : BitVec 32 := 256#32
  let c0_i32_825 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c512_i32_824 : BitVec 32 := 512#32
  let v1325 : BitVec 32 := Scalar.subi v406 c512_i32_824
  let v1326 : BitVec 32 := Scalar.maxsi c0_i32_825 v1325
  let v1327 : BitVec 32 := Scalar.minsi c256_i32_826 v1326
  let v1805 : BitVec 32 := Scalar.subi v1327 v1324
  let c1_i32_1196 : BitVec 32 := 1#32
  let v1807 : BitVec 32 := Scalar.divsi v1805 c1_i32_1196
  let v1808 : BitVec 32 := Scalar.muli v1807 c1_i32_1196
  let v1809 : BitVec 32 := Scalar.addi v1324 v1808
  let c1_i32_1198 : BitVec 32 := 1#32
  let arg13 : BitVec 32 := Scf.iv v1809 c1_i32_1198 k1_t154
  let v1836 : Index := Scalar.indexCast arg13
  let c32_1209 : Index := 32#32
  ![v1836.toNat, 32]
def k1_off618 (i : grid1.Coords) (v398 : BitVec 32) (v403 : BitVec 32) (k1_t154 : Fin (k1_t154_loop i v398 v403).trips) : Fin 2 → Nat :=
  let c256_i32_823 : BitVec 32 := 256#32
  let c0_i32_822 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c512_i32_821 : BitVec 32 := 512#32
  let v1322 : BitVec 32 := Scalar.subi v401 c512_i32_821
  let v1323 : BitVec 32 := Scalar.maxsi c0_i32_822 v1322
  let v1324 : BitVec 32 := Scalar.minsi c256_i32_823 v1323
  let c256_i32_826 : BitVec 32 := 256#32
  let c0_i32_825 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c512_i32_824 : BitVec 32 := 512#32
  let v1325 : BitVec 32 := Scalar.subi v406 c512_i32_824
  let v1326 : BitVec 32 := Scalar.maxsi c0_i32_825 v1325
  let v1327 : BitVec 32 := Scalar.minsi c256_i32_826 v1326
  let v1805 : BitVec 32 := Scalar.subi v1327 v1324
  let c1_i32_1196 : BitVec 32 := 1#32
  let v1807 : BitVec 32 := Scalar.divsi v1805 c1_i32_1196
  let v1808 : BitVec 32 := Scalar.muli v1807 c1_i32_1196
  let v1809 : BitVec 32 := Scalar.addi v1324 v1808
  let c1_i32_1198 : BitVec 32 := 1#32
  let arg13 : BitVec 32 := Scf.iv v1809 c1_i32_1198 k1_t154
  let v1840 : Index := Scalar.indexCast arg13
  let c48_1210 : Index := 48#32
  ![v1840.toNat, 48]
@[reducible] def k1_t155_loop (i : grid1.Coords) (v408 : BitVec 32) (v414 : BitVec 32) : Scf.Loop 32 :=
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let c256_i32_833 : BitVec 32 := 256#32
  let c0_i32_832 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c512_i32_831 : BitVec 32 := 512#32
  let v1334 : BitVec 32 := Scalar.subi v418 c512_i32_831
  let v1335 : BitVec 32 := Scalar.maxsi c0_i32_832 v1334
  let v1336 : BitVec 32 := Scalar.minsi c256_i32_833 v1335
  let v1805 : BitVec 32 := Scalar.subi v1336 v1333
  let c1_i32_1196 : BitVec 32 := 1#32
  let v1807 : BitVec 32 := Scalar.divsi v1805 c1_i32_1196
  let v1808 : BitVec 32 := Scalar.muli v1807 c1_i32_1196
  let v1809 : BitVec 32 := Scalar.addi v1333 v1808
  let c1_i32_1197 : BitVec 32 := 1#32
  ⟨v1333, v1809, c1_i32_1197⟩
def k1_cond78 (i : grid1.Coords) (v408 : BitVec 32) (v414 : BitVec 32) : BitVec 1 :=
  let c256_i32_833 : BitVec 32 := 256#32
  let c0_i32_832 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v416 : BitVec 32 := Scalar.subi v415 v3
  let v417 : BitVec 32 := Scalar.maxsi c0_i32_179 v416
  let v418 : BitVec 32 := Scalar.minsi c1024_i32_180 v417
  let c512_i32_831 : BitVec 32 := 512#32
  let v1334 : BitVec 32 := Scalar.subi v418 c512_i32_831
  let v1335 : BitVec 32 := Scalar.maxsi c0_i32_832 v1334
  let v1336 : BitVec 32 := Scalar.minsi c256_i32_833 v1335
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let v1337 : BitVec 1 := Scalar.cmpi .sgt v1336 v1333
  let v1338 : BitVec 32 := Scalar.extui v1337
  let c0_i32_834 : BitVec 32 := 0#32
  let v1339 : BitVec 1 := Scalar.cmpi .ne v1338 c0_i32_834
  v1339

def k1_off619 (i : grid1.Coords) (v408 : BitVec 32) (v414 : BitVec 32) (k1_t155 : Fin (k1_t155_loop i v408 v414).trips) : Fin 2 → Nat :=
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let c1_i32_1197 : BitVec 32 := 1#32
  let arg13 : BitVec 32 := Scf.iv v1333 c1_i32_1197 k1_t155
  let v1828 : Index := Scalar.indexCast arg13
  let c64 : Index := 64#32
  ![v1828.toNat, 64]
def k1_off620 (i : grid1.Coords) (v408 : BitVec 32) (v414 : BitVec 32) (k1_t155 : Fin (k1_t155_loop i v408 v414).trips) : Fin 2 → Nat :=
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let c1_i32_1197 : BitVec 32 := 1#32
  let arg13 : BitVec 32 := Scf.iv v1333 c1_i32_1197 k1_t155
  let v1832 : Index := Scalar.indexCast arg13
  let c80 : Index := 80#32
  ![v1832.toNat, 80]
def k1_off621 (i : grid1.Coords) (v408 : BitVec 32) (v414 : BitVec 32) (k1_t155 : Fin (k1_t155_loop i v408 v414).trips) : Fin 2 → Nat :=
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let c1_i32_1197 : BitVec 32 := 1#32
  let arg13 : BitVec 32 := Scf.iv v1333 c1_i32_1197 k1_t155
  let v1836 : Index := Scalar.indexCast arg13
  let c96 : Index := 96#32
  ![v1836.toNat, 96]
def k1_off622 (i : grid1.Coords) (v408 : BitVec 32) (v414 : BitVec 32) (k1_t155 : Fin (k1_t155_loop i v408 v414).trips) : Fin 2 → Nat :=
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let c1_i32_1197 : BitVec 32 := 1#32
  let arg13 : BitVec 32 := Scf.iv v1333 c1_i32_1197 k1_t155
  let v1840 : Index := Scalar.indexCast arg13
  let c112 : Index := 112#32
  ![v1840.toNat, 112]
@[reducible] def k1_t156_loop (i : grid1.Coords) (v408 : BitVec 32) (v414 : BitVec 32) : Scf.Loop 32 :=
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let c256_i32_833 : BitVec 32 := 256#32
  let c0_i32_832 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c512_i32_831 : BitVec 32 := 512#32
  let v1334 : BitVec 32 := Scalar.subi v418 c512_i32_831
  let v1335 : BitVec 32 := Scalar.maxsi c0_i32_832 v1334
  let v1336 : BitVec 32 := Scalar.minsi c256_i32_833 v1335
  let v1805 : BitVec 32 := Scalar.subi v1336 v1333
  let c1_i32_1196 : BitVec 32 := 1#32
  let v1807 : BitVec 32 := Scalar.divsi v1805 c1_i32_1196
  let v1808 : BitVec 32 := Scalar.muli v1807 c1_i32_1196
  let v1809 : BitVec 32 := Scalar.addi v1333 v1808
  let v1806 : BitVec 32 := Scalar.addi v1333 v1805
  let c1_i32_1198 : BitVec 32 := 1#32
  ⟨v1809, v1806, c1_i32_1198⟩
def k1_off623 (i : grid1.Coords) (v408 : BitVec 32) (v414 : BitVec 32) (k1_t156 : Fin (k1_t156_loop i v408 v414).trips) : Fin 2 → Nat :=
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let c256_i32_833 : BitVec 32 := 256#32
  let c0_i32_832 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c512_i32_831 : BitVec 32 := 512#32
  let v1334 : BitVec 32 := Scalar.subi v418 c512_i32_831
  let v1335 : BitVec 32 := Scalar.maxsi c0_i32_832 v1334
  let v1336 : BitVec 32 := Scalar.minsi c256_i32_833 v1335
  let v1805 : BitVec 32 := Scalar.subi v1336 v1333
  let c1_i32_1196 : BitVec 32 := 1#32
  let v1807 : BitVec 32 := Scalar.divsi v1805 c1_i32_1196
  let v1808 : BitVec 32 := Scalar.muli v1807 c1_i32_1196
  let v1809 : BitVec 32 := Scalar.addi v1333 v1808
  let c1_i32_1198 : BitVec 32 := 1#32
  let arg13 : BitVec 32 := Scf.iv v1809 c1_i32_1198 k1_t156
  let v1828 : Index := Scalar.indexCast arg13
  let c64 : Index := 64#32
  ![v1828.toNat, 64]
def k1_off624 (i : grid1.Coords) (v408 : BitVec 32) (v414 : BitVec 32) (k1_t156 : Fin (k1_t156_loop i v408 v414).trips) : Fin 2 → Nat :=
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let c256_i32_833 : BitVec 32 := 256#32
  let c0_i32_832 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c512_i32_831 : BitVec 32 := 512#32
  let v1334 : BitVec 32 := Scalar.subi v418 c512_i32_831
  let v1335 : BitVec 32 := Scalar.maxsi c0_i32_832 v1334
  let v1336 : BitVec 32 := Scalar.minsi c256_i32_833 v1335
  let v1805 : BitVec 32 := Scalar.subi v1336 v1333
  let c1_i32_1196 : BitVec 32 := 1#32
  let v1807 : BitVec 32 := Scalar.divsi v1805 c1_i32_1196
  let v1808 : BitVec 32 := Scalar.muli v1807 c1_i32_1196
  let v1809 : BitVec 32 := Scalar.addi v1333 v1808
  let c1_i32_1198 : BitVec 32 := 1#32
  let arg13 : BitVec 32 := Scf.iv v1809 c1_i32_1198 k1_t156
  let v1832 : Index := Scalar.indexCast arg13
  let c80 : Index := 80#32
  ![v1832.toNat, 80]
def k1_off625 (i : grid1.Coords) (v408 : BitVec 32) (v414 : BitVec 32) (k1_t156 : Fin (k1_t156_loop i v408 v414).trips) : Fin 2 → Nat :=
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let c256_i32_833 : BitVec 32 := 256#32
  let c0_i32_832 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c512_i32_831 : BitVec 32 := 512#32
  let v1334 : BitVec 32 := Scalar.subi v418 c512_i32_831
  let v1335 : BitVec 32 := Scalar.maxsi c0_i32_832 v1334
  let v1336 : BitVec 32 := Scalar.minsi c256_i32_833 v1335
  let v1805 : BitVec 32 := Scalar.subi v1336 v1333
  let c1_i32_1196 : BitVec 32 := 1#32
  let v1807 : BitVec 32 := Scalar.divsi v1805 c1_i32_1196
  let v1808 : BitVec 32 := Scalar.muli v1807 c1_i32_1196
  let v1809 : BitVec 32 := Scalar.addi v1333 v1808
  let c1_i32_1198 : BitVec 32 := 1#32
  let arg13 : BitVec 32 := Scf.iv v1809 c1_i32_1198 k1_t156
  let v1836 : Index := Scalar.indexCast arg13
  let c96 : Index := 96#32
  ![v1836.toNat, 96]
def k1_off626 (i : grid1.Coords) (v408 : BitVec 32) (v414 : BitVec 32) (k1_t156 : Fin (k1_t156_loop i v408 v414).trips) : Fin 2 → Nat :=
  let c256_i32_830 : BitVec 32 := 256#32
  let c0_i32_829 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c512_i32_828 : BitVec 32 := 512#32
  let v1331 : BitVec 32 := Scalar.subi v412 c512_i32_828
  let v1332 : BitVec 32 := Scalar.maxsi c0_i32_829 v1331
  let v1333 : BitVec 32 := Scalar.minsi c256_i32_830 v1332
  let c256_i32_833 : BitVec 32 := 256#32
  let c0_i32_832 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c512_i32_831 : BitVec 32 := 512#32
  let v1334 : BitVec 32 := Scalar.subi v418 c512_i32_831
  let v1335 : BitVec 32 := Scalar.maxsi c0_i32_832 v1334
  let v1336 : BitVec 32 := Scalar.minsi c256_i32_833 v1335
  let v1805 : BitVec 32 := Scalar.subi v1336 v1333
  let c1_i32_1196 : BitVec 32 := 1#32
  let v1807 : BitVec 32 := Scalar.divsi v1805 c1_i32_1196
  let v1808 : BitVec 32 := Scalar.muli v1807 c1_i32_1196
  let v1809 : BitVec 32 := Scalar.addi v1333 v1808
  let c1_i32_1198 : BitVec 32 := 1#32
  let arg13 : BitVec 32 := Scf.iv v1809 c1_i32_1198 k1_t156
  let v1840 : Index := Scalar.indexCast arg13
  let c112 : Index := 112#32
  ![v1840.toNat, 112]
@[reducible] def k1_t157_loop (i : grid1.Coords) (v420 : BitVec 32) (v425 : BitVec 32) : Scf.Loop 32 :=
  let c256_i32_837 : BitVec 32 := 256#32
  let c0_i32_836 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let c256_i32_840 : BitVec 32 := 256#32
  let c0_i32_839 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c512_i32_838 : BitVec 32 := 512#32
  let v1343 : BitVec 32 := Scalar.subi v428 c512_i32_838
  let v1344 : BitVec 32 := Scalar.maxsi c0_i32_839 v1343
  let v1345 : BitVec 32 := Scalar.minsi c256_i32_840 v1344
  let v1805 : BitVec 32 := Scalar.subi v1345 v1342
  let c1_i32_1196 : BitVec 32 := 1#32
  let v1807 : BitVec 32 := Scalar.divsi v1805 c1_i32_1196
  let v1808 : BitVec 32 := Scalar.muli v1807 c1_i32_1196
  let v1809 : BitVec 32 := Scalar.addi v1342 v1808
  let c1_i32_1197 : BitVec 32 := 1#32
  ⟨v1342, v1809, c1_i32_1197⟩
def k1_cond79 (i : grid1.Coords) (v420 : BitVec 32) (v425 : BitVec 32) : BitVec 1 :=
  let c256_i32_840 : BitVec 32 := 256#32
  let c0_i32_839 : BitVec 32 := 0#32
  let c1024_i32_184 : BitVec 32 := 1024#32
  let c0_i32_183 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v426 : BitVec 32 := Scalar.subi v425 v3
  let v427 : BitVec 32 := Scalar.maxsi c0_i32_183 v426
  let v428 : BitVec 32 := Scalar.minsi c1024_i32_184 v427
  let c512_i32_838 : BitVec 32 := 512#32
  let v1343 : BitVec 32 := Scalar.subi v428 c512_i32_838
  let v1344 : BitVec 32 := Scalar.maxsi c0_i32_839 v1343
  let v1345 : BitVec 32 := Scalar.minsi c256_i32_840 v1344
  let c256_i32_837 : BitVec 32 := 256#32
  let c0_i32_836 : BitVec 32 := 0#32
  let c1024_i32_182 : BitVec 32 := 1024#32
  let c0_i32_181 : BitVec 32 := 0#32
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let v1346 : BitVec 1 := Scalar.cmpi .sgt v1345 v1342
  let v1347 : BitVec 32 := Scalar.extui v1346
  let c0_i32_841 : BitVec 32 := 0#32
  let v1348 : BitVec 1 := Scalar.cmpi .ne v1347 c0_i32_841
  v1348

def k1_off627 (i : grid1.Coords) (v420 : BitVec 32) (v425 : BitVec 32) (k1_t157 : Fin (k1_t157_loop i v420 v425).trips) : Fin 2 → Nat :=
  let c256_i32_837 : BitVec 32 := 256#32
  let c0_i32_836 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let c1_i32_1197 : BitVec 32 := 1#32
  let arg13 : BitVec 32 := Scf.iv v1342 c1_i32_1197 k1_t157
  let v1828 : Index := Scalar.indexCast arg13
  let c0_1207 : Index := 0#32
  ![v1828.toNat, 0]
def k1_off628 (i : grid1.Coords) (v420 : BitVec 32) (v425 : BitVec 32) (k1_t157 : Fin (k1_t157_loop i v420 v425).trips) : Fin 2 → Nat :=
  let c256_i32_837 : BitVec 32 := 256#32
  let c0_i32_836 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let c1_i32_1197 : BitVec 32 := 1#32
  let arg13 : BitVec 32 := Scf.iv v1342 c1_i32_1197 k1_t157
  let v1832 : Index := Scalar.indexCast arg13
  let c16_1208 : Index := 16#32
  ![v1832.toNat, 16]
def k1_off629 (i : grid1.Coords) (v420 : BitVec 32) (v425 : BitVec 32) (k1_t157 : Fin (k1_t157_loop i v420 v425).trips) : Fin 2 → Nat :=
  let c256_i32_837 : BitVec 32 := 256#32
  let c0_i32_836 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let c1_i32_1197 : BitVec 32 := 1#32
  let arg13 : BitVec 32 := Scf.iv v1342 c1_i32_1197 k1_t157
  let v1836 : Index := Scalar.indexCast arg13
  let c32_1209 : Index := 32#32
  ![v1836.toNat, 32]
def k1_off630 (i : grid1.Coords) (v420 : BitVec 32) (v425 : BitVec 32) (k1_t157 : Fin (k1_t157_loop i v420 v425).trips) : Fin 2 → Nat :=
  let c256_i32_837 : BitVec 32 := 256#32
  let c0_i32_836 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let c1_i32_1197 : BitVec 32 := 1#32
  let arg13 : BitVec 32 := Scf.iv v1342 c1_i32_1197 k1_t157
  let v1840 : Index := Scalar.indexCast arg13
  let c48_1210 : Index := 48#32
  ![v1840.toNat, 48]
@[reducible] def k1_t158_loop (i : grid1.Coords) (v420 : BitVec 32) (v425 : BitVec 32) : Scf.Loop 32 :=
  let c256_i32_837 : BitVec 32 := 256#32
  let c0_i32_836 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let c256_i32_840 : BitVec 32 := 256#32
  let c0_i32_839 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c512_i32_838 : BitVec 32 := 512#32
  let v1343 : BitVec 32 := Scalar.subi v428 c512_i32_838
  let v1344 : BitVec 32 := Scalar.maxsi c0_i32_839 v1343
  let v1345 : BitVec 32 := Scalar.minsi c256_i32_840 v1344
  let v1805 : BitVec 32 := Scalar.subi v1345 v1342
  let c1_i32_1196 : BitVec 32 := 1#32
  let v1807 : BitVec 32 := Scalar.divsi v1805 c1_i32_1196
  let v1808 : BitVec 32 := Scalar.muli v1807 c1_i32_1196
  let v1809 : BitVec 32 := Scalar.addi v1342 v1808
  let v1806 : BitVec 32 := Scalar.addi v1342 v1805
  let c1_i32_1198 : BitVec 32 := 1#32
  ⟨v1809, v1806, c1_i32_1198⟩
def k1_off631 (i : grid1.Coords) (v420 : BitVec 32) (v425 : BitVec 32) (k1_t158 : Fin (k1_t158_loop i v420 v425).trips) : Fin 2 → Nat :=
  let c256_i32_837 : BitVec 32 := 256#32
  let c0_i32_836 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let c256_i32_840 : BitVec 32 := 256#32
  let c0_i32_839 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c512_i32_838 : BitVec 32 := 512#32
  let v1343 : BitVec 32 := Scalar.subi v428 c512_i32_838
  let v1344 : BitVec 32 := Scalar.maxsi c0_i32_839 v1343
  let v1345 : BitVec 32 := Scalar.minsi c256_i32_840 v1344
  let v1805 : BitVec 32 := Scalar.subi v1345 v1342
  let c1_i32_1196 : BitVec 32 := 1#32
  let v1807 : BitVec 32 := Scalar.divsi v1805 c1_i32_1196
  let v1808 : BitVec 32 := Scalar.muli v1807 c1_i32_1196
  let v1809 : BitVec 32 := Scalar.addi v1342 v1808
  let c1_i32_1198 : BitVec 32 := 1#32
  let arg13 : BitVec 32 := Scf.iv v1809 c1_i32_1198 k1_t158
  let v1828 : Index := Scalar.indexCast arg13
  let c0_1207 : Index := 0#32
  ![v1828.toNat, 0]
def k1_off632 (i : grid1.Coords) (v420 : BitVec 32) (v425 : BitVec 32) (k1_t158 : Fin (k1_t158_loop i v420 v425).trips) : Fin 2 → Nat :=
  let c256_i32_837 : BitVec 32 := 256#32
  let c0_i32_836 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let c256_i32_840 : BitVec 32 := 256#32
  let c0_i32_839 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c512_i32_838 : BitVec 32 := 512#32
  let v1343 : BitVec 32 := Scalar.subi v428 c512_i32_838
  let v1344 : BitVec 32 := Scalar.maxsi c0_i32_839 v1343
  let v1345 : BitVec 32 := Scalar.minsi c256_i32_840 v1344
  let v1805 : BitVec 32 := Scalar.subi v1345 v1342
  let c1_i32_1196 : BitVec 32 := 1#32
  let v1807 : BitVec 32 := Scalar.divsi v1805 c1_i32_1196
  let v1808 : BitVec 32 := Scalar.muli v1807 c1_i32_1196
  let v1809 : BitVec 32 := Scalar.addi v1342 v1808
  let c1_i32_1198 : BitVec 32 := 1#32
  let arg13 : BitVec 32 := Scf.iv v1809 c1_i32_1198 k1_t158
  let v1832 : Index := Scalar.indexCast arg13
  let c16_1208 : Index := 16#32
  ![v1832.toNat, 16]
def k1_off633 (i : grid1.Coords) (v420 : BitVec 32) (v425 : BitVec 32) (k1_t158 : Fin (k1_t158_loop i v420 v425).trips) : Fin 2 → Nat :=
  let c256_i32_837 : BitVec 32 := 256#32
  let c0_i32_836 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let c256_i32_840 : BitVec 32 := 256#32
  let c0_i32_839 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c512_i32_838 : BitVec 32 := 512#32
  let v1343 : BitVec 32 := Scalar.subi v428 c512_i32_838
  let v1344 : BitVec 32 := Scalar.maxsi c0_i32_839 v1343
  let v1345 : BitVec 32 := Scalar.minsi c256_i32_840 v1344
  let v1805 : BitVec 32 := Scalar.subi v1345 v1342
  let c1_i32_1196 : BitVec 32 := 1#32
  let v1807 : BitVec 32 := Scalar.divsi v1805 c1_i32_1196
  let v1808 : BitVec 32 := Scalar.muli v1807 c1_i32_1196
  let v1809 : BitVec 32 := Scalar.addi v1342 v1808
  let c1_i32_1198 : BitVec 32 := 1#32
  let arg13 : BitVec 32 := Scf.iv v1809 c1_i32_1198 k1_t158
  let v1836 : Index := Scalar.indexCast arg13
  let c32_1209 : Index := 32#32
  ![v1836.toNat, 32]
def k1_off634 (i : grid1.Coords) (v420 : BitVec 32) (v425 : BitVec 32) (k1_t158 : Fin (k1_t158_loop i v420 v425).trips) : Fin 2 → Nat :=
  let c256_i32_837 : BitVec 32 := 256#32
  let c0_i32_836 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c512_i32_835 : BitVec 32 := 512#32
  let v1340 : BitVec 32 := Scalar.subi v423 c512_i32_835
  let v1341 : BitVec 32 := Scalar.maxsi c0_i32_836 v1340
  let v1342 : BitVec 32 := Scalar.minsi c256_i32_837 v1341
  let c256_i32_840 : BitVec 32 := 256#32
  let c0_i32_839 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c512_i32_838 : BitVec 32 := 512#32
  let v1343 : BitVec 32 := Scalar.subi v428 c512_i32_838
  let v1344 : BitVec 32 := Scalar.maxsi c0_i32_839 v1343
  let v1345 : BitVec 32 := Scalar.minsi c256_i32_840 v1344
  let v1805 : BitVec 32 := Scalar.subi v1345 v1342
  let c1_i32_1196 : BitVec 32 := 1#32
  let v1807 : BitVec 32 := Scalar.divsi v1805 c1_i32_1196
  let v1808 : BitVec 32 := Scalar.muli v1807 c1_i32_1196
  let v1809 : BitVec 32 := Scalar.addi v1342 v1808
  let c1_i32_1198 : BitVec 32 := 1#32
  let arg13 : BitVec 32 := Scf.iv v1809 c1_i32_1198 k1_t158
  let v1840 : Index := Scalar.indexCast arg13
  let c48_1210 : Index := 48#32
  ![v1840.toNat, 48]
@[reducible] def k1_t159_loop (i : grid1.Coords) (v430 : BitVec 32) (v436 : BitVec 32) : Scf.Loop 32 :=
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let c256_i32_847 : BitVec 32 := 256#32
  let c0_i32_846 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c512_i32_845 : BitVec 32 := 512#32
  let v1352 : BitVec 32 := Scalar.subi v440 c512_i32_845
  let v1353 : BitVec 32 := Scalar.maxsi c0_i32_846 v1352
  let v1354 : BitVec 32 := Scalar.minsi c256_i32_847 v1353
  let v1805 : BitVec 32 := Scalar.subi v1354 v1351
  let c1_i32_1196 : BitVec 32 := 1#32
  let v1807 : BitVec 32 := Scalar.divsi v1805 c1_i32_1196
  let v1808 : BitVec 32 := Scalar.muli v1807 c1_i32_1196
  let v1809 : BitVec 32 := Scalar.addi v1351 v1808
  let c1_i32_1197 : BitVec 32 := 1#32
  ⟨v1351, v1809, c1_i32_1197⟩
def k1_cond80 (i : grid1.Coords) (v430 : BitVec 32) (v436 : BitVec 32) : BitVec 1 :=
  let c256_i32_847 : BitVec 32 := 256#32
  let c0_i32_846 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v438 : BitVec 32 := Scalar.subi v437 v3
  let v439 : BitVec 32 := Scalar.maxsi c0_i32_189 v438
  let v440 : BitVec 32 := Scalar.minsi c1024_i32_190 v439
  let c512_i32_845 : BitVec 32 := 512#32
  let v1352 : BitVec 32 := Scalar.subi v440 c512_i32_845
  let v1353 : BitVec 32 := Scalar.maxsi c0_i32_846 v1352
  let v1354 : BitVec 32 := Scalar.minsi c256_i32_847 v1353
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let v1355 : BitVec 1 := Scalar.cmpi .sgt v1354 v1351
  let v1356 : BitVec 32 := Scalar.extui v1355
  let c0_i32_848 : BitVec 32 := 0#32
  let v1357 : BitVec 1 := Scalar.cmpi .ne v1356 c0_i32_848
  v1357

def k1_off635 (i : grid1.Coords) (v430 : BitVec 32) (v436 : BitVec 32) (k1_t159 : Fin (k1_t159_loop i v430 v436).trips) : Fin 2 → Nat :=
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let c1_i32_1197 : BitVec 32 := 1#32
  let arg13 : BitVec 32 := Scf.iv v1351 c1_i32_1197 k1_t159
  let v1828 : Index := Scalar.indexCast arg13
  let c64 : Index := 64#32
  ![v1828.toNat, 64]
def k1_off636 (i : grid1.Coords) (v430 : BitVec 32) (v436 : BitVec 32) (k1_t159 : Fin (k1_t159_loop i v430 v436).trips) : Fin 2 → Nat :=
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let c1_i32_1197 : BitVec 32 := 1#32
  let arg13 : BitVec 32 := Scf.iv v1351 c1_i32_1197 k1_t159
  let v1832 : Index := Scalar.indexCast arg13
  let c80 : Index := 80#32
  ![v1832.toNat, 80]
def k1_off637 (i : grid1.Coords) (v430 : BitVec 32) (v436 : BitVec 32) (k1_t159 : Fin (k1_t159_loop i v430 v436).trips) : Fin 2 → Nat :=
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let c1_i32_1197 : BitVec 32 := 1#32
  let arg13 : BitVec 32 := Scf.iv v1351 c1_i32_1197 k1_t159
  let v1836 : Index := Scalar.indexCast arg13
  let c96 : Index := 96#32
  ![v1836.toNat, 96]
def k1_off638 (i : grid1.Coords) (v430 : BitVec 32) (v436 : BitVec 32) (k1_t159 : Fin (k1_t159_loop i v430 v436).trips) : Fin 2 → Nat :=
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let c1_i32_1197 : BitVec 32 := 1#32
  let arg13 : BitVec 32 := Scf.iv v1351 c1_i32_1197 k1_t159
  let v1840 : Index := Scalar.indexCast arg13
  let c112 : Index := 112#32
  ![v1840.toNat, 112]
@[reducible] def k1_t160_loop (i : grid1.Coords) (v430 : BitVec 32) (v436 : BitVec 32) : Scf.Loop 32 :=
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let c256_i32_847 : BitVec 32 := 256#32
  let c0_i32_846 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c512_i32_845 : BitVec 32 := 512#32
  let v1352 : BitVec 32 := Scalar.subi v440 c512_i32_845
  let v1353 : BitVec 32 := Scalar.maxsi c0_i32_846 v1352
  let v1354 : BitVec 32 := Scalar.minsi c256_i32_847 v1353
  let v1805 : BitVec 32 := Scalar.subi v1354 v1351
  let c1_i32_1196 : BitVec 32 := 1#32
  let v1807 : BitVec 32 := Scalar.divsi v1805 c1_i32_1196
  let v1808 : BitVec 32 := Scalar.muli v1807 c1_i32_1196
  let v1809 : BitVec 32 := Scalar.addi v1351 v1808
  let v1806 : BitVec 32 := Scalar.addi v1351 v1805
  let c1_i32_1198 : BitVec 32 := 1#32
  ⟨v1809, v1806, c1_i32_1198⟩
def k1_off639 (i : grid1.Coords) (v430 : BitVec 32) (v436 : BitVec 32) (k1_t160 : Fin (k1_t160_loop i v430 v436).trips) : Fin 2 → Nat :=
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let c256_i32_847 : BitVec 32 := 256#32
  let c0_i32_846 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c512_i32_845 : BitVec 32 := 512#32
  let v1352 : BitVec 32 := Scalar.subi v440 c512_i32_845
  let v1353 : BitVec 32 := Scalar.maxsi c0_i32_846 v1352
  let v1354 : BitVec 32 := Scalar.minsi c256_i32_847 v1353
  let v1805 : BitVec 32 := Scalar.subi v1354 v1351
  let c1_i32_1196 : BitVec 32 := 1#32
  let v1807 : BitVec 32 := Scalar.divsi v1805 c1_i32_1196
  let v1808 : BitVec 32 := Scalar.muli v1807 c1_i32_1196
  let v1809 : BitVec 32 := Scalar.addi v1351 v1808
  let c1_i32_1198 : BitVec 32 := 1#32
  let arg13 : BitVec 32 := Scf.iv v1809 c1_i32_1198 k1_t160
  let v1828 : Index := Scalar.indexCast arg13
  let c64 : Index := 64#32
  ![v1828.toNat, 64]
def k1_off640 (i : grid1.Coords) (v430 : BitVec 32) (v436 : BitVec 32) (k1_t160 : Fin (k1_t160_loop i v430 v436).trips) : Fin 2 → Nat :=
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let c256_i32_847 : BitVec 32 := 256#32
  let c0_i32_846 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c512_i32_845 : BitVec 32 := 512#32
  let v1352 : BitVec 32 := Scalar.subi v440 c512_i32_845
  let v1353 : BitVec 32 := Scalar.maxsi c0_i32_846 v1352
  let v1354 : BitVec 32 := Scalar.minsi c256_i32_847 v1353
  let v1805 : BitVec 32 := Scalar.subi v1354 v1351
  let c1_i32_1196 : BitVec 32 := 1#32
  let v1807 : BitVec 32 := Scalar.divsi v1805 c1_i32_1196
  let v1808 : BitVec 32 := Scalar.muli v1807 c1_i32_1196
  let v1809 : BitVec 32 := Scalar.addi v1351 v1808
  let c1_i32_1198 : BitVec 32 := 1#32
  let arg13 : BitVec 32 := Scf.iv v1809 c1_i32_1198 k1_t160
  let v1832 : Index := Scalar.indexCast arg13
  let c80 : Index := 80#32
  ![v1832.toNat, 80]
def k1_off641 (i : grid1.Coords) (v430 : BitVec 32) (v436 : BitVec 32) (k1_t160 : Fin (k1_t160_loop i v430 v436).trips) : Fin 2 → Nat :=
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let c256_i32_847 : BitVec 32 := 256#32
  let c0_i32_846 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c512_i32_845 : BitVec 32 := 512#32
  let v1352 : BitVec 32 := Scalar.subi v440 c512_i32_845
  let v1353 : BitVec 32 := Scalar.maxsi c0_i32_846 v1352
  let v1354 : BitVec 32 := Scalar.minsi c256_i32_847 v1353
  let v1805 : BitVec 32 := Scalar.subi v1354 v1351
  let c1_i32_1196 : BitVec 32 := 1#32
  let v1807 : BitVec 32 := Scalar.divsi v1805 c1_i32_1196
  let v1808 : BitVec 32 := Scalar.muli v1807 c1_i32_1196
  let v1809 : BitVec 32 := Scalar.addi v1351 v1808
  let c1_i32_1198 : BitVec 32 := 1#32
  let arg13 : BitVec 32 := Scf.iv v1809 c1_i32_1198 k1_t160
  let v1836 : Index := Scalar.indexCast arg13
  let c96 : Index := 96#32
  ![v1836.toNat, 96]
def k1_off642 (i : grid1.Coords) (v430 : BitVec 32) (v436 : BitVec 32) (k1_t160 : Fin (k1_t160_loop i v430 v436).trips) : Fin 2 → Nat :=
  let c256_i32_844 : BitVec 32 := 256#32
  let c0_i32_843 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c512_i32_842 : BitVec 32 := 512#32
  let v1349 : BitVec 32 := Scalar.subi v434 c512_i32_842
  let v1350 : BitVec 32 := Scalar.maxsi c0_i32_843 v1349
  let v1351 : BitVec 32 := Scalar.minsi c256_i32_844 v1350
  let c256_i32_847 : BitVec 32 := 256#32
  let c0_i32_846 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c512_i32_845 : BitVec 32 := 512#32
  let v1352 : BitVec 32 := Scalar.subi v440 c512_i32_845
  let v1353 : BitVec 32 := Scalar.maxsi c0_i32_846 v1352
  let v1354 : BitVec 32 := Scalar.minsi c256_i32_847 v1353
  let v1805 : BitVec 32 := Scalar.subi v1354 v1351
  let c1_i32_1196 : BitVec 32 := 1#32
  let v1807 : BitVec 32 := Scalar.divsi v1805 c1_i32_1196
  let v1808 : BitVec 32 := Scalar.muli v1807 c1_i32_1196
  let v1809 : BitVec 32 := Scalar.addi v1351 v1808
  let c1_i32_1198 : BitVec 32 := 1#32
  let arg13 : BitVec 32 := Scf.iv v1809 c1_i32_1198 k1_t160
  let v1840 : Index := Scalar.indexCast arg13
  let c112 : Index := 112#32
  ![v1840.toNat, 112]
@[reducible] def k1_t161_loop (i : grid1.Coords) (v442 : BitVec 32) (v447 : BitVec 32) : Scf.Loop 32 :=
  let c256_i32_851 : BitVec 32 := 256#32
  let c0_i32_850 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let c256_i32_854 : BitVec 32 := 256#32
  let c0_i32_853 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c512_i32_852 : BitVec 32 := 512#32
  let v1361 : BitVec 32 := Scalar.subi v450 c512_i32_852
  let v1362 : BitVec 32 := Scalar.maxsi c0_i32_853 v1361
  let v1363 : BitVec 32 := Scalar.minsi c256_i32_854 v1362
  let v1805 : BitVec 32 := Scalar.subi v1363 v1360
  let c1_i32_1196 : BitVec 32 := 1#32
  let v1807 : BitVec 32 := Scalar.divsi v1805 c1_i32_1196
  let v1808 : BitVec 32 := Scalar.muli v1807 c1_i32_1196
  let v1809 : BitVec 32 := Scalar.addi v1360 v1808
  let c1_i32_1197 : BitVec 32 := 1#32
  ⟨v1360, v1809, c1_i32_1197⟩
def k1_cond81 (i : grid1.Coords) (v442 : BitVec 32) (v447 : BitVec 32) : BitVec 1 :=
  let c256_i32_854 : BitVec 32 := 256#32
  let c0_i32_853 : BitVec 32 := 0#32
  let c1024_i32_194 : BitVec 32 := 1024#32
  let c0_i32_193 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v448 : BitVec 32 := Scalar.subi v447 v3
  let v449 : BitVec 32 := Scalar.maxsi c0_i32_193 v448
  let v450 : BitVec 32 := Scalar.minsi c1024_i32_194 v449
  let c512_i32_852 : BitVec 32 := 512#32
  let v1361 : BitVec 32 := Scalar.subi v450 c512_i32_852
  let v1362 : BitVec 32 := Scalar.maxsi c0_i32_853 v1361
  let v1363 : BitVec 32 := Scalar.minsi c256_i32_854 v1362
  let c256_i32_851 : BitVec 32 := 256#32
  let c0_i32_850 : BitVec 32 := 0#32
  let c1024_i32_192 : BitVec 32 := 1024#32
  let c0_i32_191 : BitVec 32 := 0#32
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let v1364 : BitVec 1 := Scalar.cmpi .sgt v1363 v1360
  let v1365 : BitVec 32 := Scalar.extui v1364
  let c0_i32_855 : BitVec 32 := 0#32
  let v1366 : BitVec 1 := Scalar.cmpi .ne v1365 c0_i32_855
  v1366

def k1_off643 (i : grid1.Coords) (v442 : BitVec 32) (v447 : BitVec 32) (k1_t161 : Fin (k1_t161_loop i v442 v447).trips) : Fin 2 → Nat :=
  let c256_i32_851 : BitVec 32 := 256#32
  let c0_i32_850 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let c1_i32_1197 : BitVec 32 := 1#32
  let arg13 : BitVec 32 := Scf.iv v1360 c1_i32_1197 k1_t161
  let v1828 : Index := Scalar.indexCast arg13
  let c0_1207 : Index := 0#32
  ![v1828.toNat, 0]
def k1_off644 (i : grid1.Coords) (v442 : BitVec 32) (v447 : BitVec 32) (k1_t161 : Fin (k1_t161_loop i v442 v447).trips) : Fin 2 → Nat :=
  let c256_i32_851 : BitVec 32 := 256#32
  let c0_i32_850 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let c1_i32_1197 : BitVec 32 := 1#32
  let arg13 : BitVec 32 := Scf.iv v1360 c1_i32_1197 k1_t161
  let v1832 : Index := Scalar.indexCast arg13
  let c16_1208 : Index := 16#32
  ![v1832.toNat, 16]
def k1_off645 (i : grid1.Coords) (v442 : BitVec 32) (v447 : BitVec 32) (k1_t161 : Fin (k1_t161_loop i v442 v447).trips) : Fin 2 → Nat :=
  let c256_i32_851 : BitVec 32 := 256#32
  let c0_i32_850 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let c1_i32_1197 : BitVec 32 := 1#32
  let arg13 : BitVec 32 := Scf.iv v1360 c1_i32_1197 k1_t161
  let v1836 : Index := Scalar.indexCast arg13
  let c32_1209 : Index := 32#32
  ![v1836.toNat, 32]
def k1_off646 (i : grid1.Coords) (v442 : BitVec 32) (v447 : BitVec 32) (k1_t161 : Fin (k1_t161_loop i v442 v447).trips) : Fin 2 → Nat :=
  let c256_i32_851 : BitVec 32 := 256#32
  let c0_i32_850 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let c1_i32_1197 : BitVec 32 := 1#32
  let arg13 : BitVec 32 := Scf.iv v1360 c1_i32_1197 k1_t161
  let v1840 : Index := Scalar.indexCast arg13
  let c48_1210 : Index := 48#32
  ![v1840.toNat, 48]
@[reducible] def k1_t162_loop (i : grid1.Coords) (v442 : BitVec 32) (v447 : BitVec 32) : Scf.Loop 32 :=
  let c256_i32_851 : BitVec 32 := 256#32
  let c0_i32_850 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let c256_i32_854 : BitVec 32 := 256#32
  let c0_i32_853 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c512_i32_852 : BitVec 32 := 512#32
  let v1361 : BitVec 32 := Scalar.subi v450 c512_i32_852
  let v1362 : BitVec 32 := Scalar.maxsi c0_i32_853 v1361
  let v1363 : BitVec 32 := Scalar.minsi c256_i32_854 v1362
  let v1805 : BitVec 32 := Scalar.subi v1363 v1360
  let c1_i32_1196 : BitVec 32 := 1#32
  let v1807 : BitVec 32 := Scalar.divsi v1805 c1_i32_1196
  let v1808 : BitVec 32 := Scalar.muli v1807 c1_i32_1196
  let v1809 : BitVec 32 := Scalar.addi v1360 v1808
  let v1806 : BitVec 32 := Scalar.addi v1360 v1805
  let c1_i32_1198 : BitVec 32 := 1#32
  ⟨v1809, v1806, c1_i32_1198⟩
def k1_off647 (i : grid1.Coords) (v442 : BitVec 32) (v447 : BitVec 32) (k1_t162 : Fin (k1_t162_loop i v442 v447).trips) : Fin 2 → Nat :=
  let c256_i32_851 : BitVec 32 := 256#32
  let c0_i32_850 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let c256_i32_854 : BitVec 32 := 256#32
  let c0_i32_853 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c512_i32_852 : BitVec 32 := 512#32
  let v1361 : BitVec 32 := Scalar.subi v450 c512_i32_852
  let v1362 : BitVec 32 := Scalar.maxsi c0_i32_853 v1361
  let v1363 : BitVec 32 := Scalar.minsi c256_i32_854 v1362
  let v1805 : BitVec 32 := Scalar.subi v1363 v1360
  let c1_i32_1196 : BitVec 32 := 1#32
  let v1807 : BitVec 32 := Scalar.divsi v1805 c1_i32_1196
  let v1808 : BitVec 32 := Scalar.muli v1807 c1_i32_1196
  let v1809 : BitVec 32 := Scalar.addi v1360 v1808
  let c1_i32_1198 : BitVec 32 := 1#32
  let arg13 : BitVec 32 := Scf.iv v1809 c1_i32_1198 k1_t162
  let v1828 : Index := Scalar.indexCast arg13
  let c0_1207 : Index := 0#32
  ![v1828.toNat, 0]
def k1_off648 (i : grid1.Coords) (v442 : BitVec 32) (v447 : BitVec 32) (k1_t162 : Fin (k1_t162_loop i v442 v447).trips) : Fin 2 → Nat :=
  let c256_i32_851 : BitVec 32 := 256#32
  let c0_i32_850 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let c256_i32_854 : BitVec 32 := 256#32
  let c0_i32_853 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c512_i32_852 : BitVec 32 := 512#32
  let v1361 : BitVec 32 := Scalar.subi v450 c512_i32_852
  let v1362 : BitVec 32 := Scalar.maxsi c0_i32_853 v1361
  let v1363 : BitVec 32 := Scalar.minsi c256_i32_854 v1362
  let v1805 : BitVec 32 := Scalar.subi v1363 v1360
  let c1_i32_1196 : BitVec 32 := 1#32
  let v1807 : BitVec 32 := Scalar.divsi v1805 c1_i32_1196
  let v1808 : BitVec 32 := Scalar.muli v1807 c1_i32_1196
  let v1809 : BitVec 32 := Scalar.addi v1360 v1808
  let c1_i32_1198 : BitVec 32 := 1#32
  let arg13 : BitVec 32 := Scf.iv v1809 c1_i32_1198 k1_t162
  let v1832 : Index := Scalar.indexCast arg13
  let c16_1208 : Index := 16#32
  ![v1832.toNat, 16]
def k1_off649 (i : grid1.Coords) (v442 : BitVec 32) (v447 : BitVec 32) (k1_t162 : Fin (k1_t162_loop i v442 v447).trips) : Fin 2 → Nat :=
  let c256_i32_851 : BitVec 32 := 256#32
  let c0_i32_850 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let c256_i32_854 : BitVec 32 := 256#32
  let c0_i32_853 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c512_i32_852 : BitVec 32 := 512#32
  let v1361 : BitVec 32 := Scalar.subi v450 c512_i32_852
  let v1362 : BitVec 32 := Scalar.maxsi c0_i32_853 v1361
  let v1363 : BitVec 32 := Scalar.minsi c256_i32_854 v1362
  let v1805 : BitVec 32 := Scalar.subi v1363 v1360
  let c1_i32_1196 : BitVec 32 := 1#32
  let v1807 : BitVec 32 := Scalar.divsi v1805 c1_i32_1196
  let v1808 : BitVec 32 := Scalar.muli v1807 c1_i32_1196
  let v1809 : BitVec 32 := Scalar.addi v1360 v1808
  let c1_i32_1198 : BitVec 32 := 1#32
  let arg13 : BitVec 32 := Scf.iv v1809 c1_i32_1198 k1_t162
  let v1836 : Index := Scalar.indexCast arg13
  let c32_1209 : Index := 32#32
  ![v1836.toNat, 32]
def k1_off650 (i : grid1.Coords) (v442 : BitVec 32) (v447 : BitVec 32) (k1_t162 : Fin (k1_t162_loop i v442 v447).trips) : Fin 2 → Nat :=
  let c256_i32_851 : BitVec 32 := 256#32
  let c0_i32_850 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c512_i32_849 : BitVec 32 := 512#32
  let v1358 : BitVec 32 := Scalar.subi v445 c512_i32_849
  let v1359 : BitVec 32 := Scalar.maxsi c0_i32_850 v1358
  let v1360 : BitVec 32 := Scalar.minsi c256_i32_851 v1359
  let c256_i32_854 : BitVec 32 := 256#32
  let c0_i32_853 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c512_i32_852 : BitVec 32 := 512#32
  let v1361 : BitVec 32 := Scalar.subi v450 c512_i32_852
  let v1362 : BitVec 32 := Scalar.maxsi c0_i32_853 v1361
  let v1363 : BitVec 32 := Scalar.minsi c256_i32_854 v1362
  let v1805 : BitVec 32 := Scalar.subi v1363 v1360
  let c1_i32_1196 : BitVec 32 := 1#32
  let v1807 : BitVec 32 := Scalar.divsi v1805 c1_i32_1196
  let v1808 : BitVec 32 := Scalar.muli v1807 c1_i32_1196
  let v1809 : BitVec 32 := Scalar.addi v1360 v1808
  let c1_i32_1198 : BitVec 32 := 1#32
  let arg13 : BitVec 32 := Scf.iv v1809 c1_i32_1198 k1_t162
  let v1840 : Index := Scalar.indexCast arg13
  let c48_1210 : Index := 48#32
  ![v1840.toNat, 48]
@[reducible] def k1_t163_loop (i : grid1.Coords) (v452 : BitVec 32) (v458 : BitVec 32) : Scf.Loop 32 :=
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let c256_i32_861 : BitVec 32 := 256#32
  let c0_i32_860 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c512_i32_859 : BitVec 32 := 512#32
  let v1370 : BitVec 32 := Scalar.subi v462 c512_i32_859
  let v1371 : BitVec 32 := Scalar.maxsi c0_i32_860 v1370
  let v1372 : BitVec 32 := Scalar.minsi c256_i32_861 v1371
  let v1805 : BitVec 32 := Scalar.subi v1372 v1369
  let c1_i32_1196 : BitVec 32 := 1#32
  let v1807 : BitVec 32 := Scalar.divsi v1805 c1_i32_1196
  let v1808 : BitVec 32 := Scalar.muli v1807 c1_i32_1196
  let v1809 : BitVec 32 := Scalar.addi v1369 v1808
  let c1_i32_1197 : BitVec 32 := 1#32
  ⟨v1369, v1809, c1_i32_1197⟩
def k1_cond82 (i : grid1.Coords) (v452 : BitVec 32) (v458 : BitVec 32) : BitVec 1 :=
  let c256_i32_861 : BitVec 32 := 256#32
  let c0_i32_860 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v460 : BitVec 32 := Scalar.subi v459 v3
  let v461 : BitVec 32 := Scalar.maxsi c0_i32_199 v460
  let v462 : BitVec 32 := Scalar.minsi c1024_i32_200 v461
  let c512_i32_859 : BitVec 32 := 512#32
  let v1370 : BitVec 32 := Scalar.subi v462 c512_i32_859
  let v1371 : BitVec 32 := Scalar.maxsi c0_i32_860 v1370
  let v1372 : BitVec 32 := Scalar.minsi c256_i32_861 v1371
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let v1373 : BitVec 1 := Scalar.cmpi .sgt v1372 v1369
  let v1374 : BitVec 32 := Scalar.extui v1373
  let c0_i32_862 : BitVec 32 := 0#32
  let v1375 : BitVec 1 := Scalar.cmpi .ne v1374 c0_i32_862
  v1375

def k1_off651 (i : grid1.Coords) (v452 : BitVec 32) (v458 : BitVec 32) (k1_t163 : Fin (k1_t163_loop i v452 v458).trips) : Fin 2 → Nat :=
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let c1_i32_1197 : BitVec 32 := 1#32
  let arg13 : BitVec 32 := Scf.iv v1369 c1_i32_1197 k1_t163
  let v1828 : Index := Scalar.indexCast arg13
  let c64 : Index := 64#32
  ![v1828.toNat, 64]
def k1_off652 (i : grid1.Coords) (v452 : BitVec 32) (v458 : BitVec 32) (k1_t163 : Fin (k1_t163_loop i v452 v458).trips) : Fin 2 → Nat :=
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let c1_i32_1197 : BitVec 32 := 1#32
  let arg13 : BitVec 32 := Scf.iv v1369 c1_i32_1197 k1_t163
  let v1832 : Index := Scalar.indexCast arg13
  let c80 : Index := 80#32
  ![v1832.toNat, 80]
def k1_off653 (i : grid1.Coords) (v452 : BitVec 32) (v458 : BitVec 32) (k1_t163 : Fin (k1_t163_loop i v452 v458).trips) : Fin 2 → Nat :=
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let c1_i32_1197 : BitVec 32 := 1#32
  let arg13 : BitVec 32 := Scf.iv v1369 c1_i32_1197 k1_t163
  let v1836 : Index := Scalar.indexCast arg13
  let c96 : Index := 96#32
  ![v1836.toNat, 96]
def k1_off654 (i : grid1.Coords) (v452 : BitVec 32) (v458 : BitVec 32) (k1_t163 : Fin (k1_t163_loop i v452 v458).trips) : Fin 2 → Nat :=
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let c1_i32_1197 : BitVec 32 := 1#32
  let arg13 : BitVec 32 := Scf.iv v1369 c1_i32_1197 k1_t163
  let v1840 : Index := Scalar.indexCast arg13
  let c112 : Index := 112#32
  ![v1840.toNat, 112]
@[reducible] def k1_t164_loop (i : grid1.Coords) (v452 : BitVec 32) (v458 : BitVec 32) : Scf.Loop 32 :=
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let c256_i32_861 : BitVec 32 := 256#32
  let c0_i32_860 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c512_i32_859 : BitVec 32 := 512#32
  let v1370 : BitVec 32 := Scalar.subi v462 c512_i32_859
  let v1371 : BitVec 32 := Scalar.maxsi c0_i32_860 v1370
  let v1372 : BitVec 32 := Scalar.minsi c256_i32_861 v1371
  let v1805 : BitVec 32 := Scalar.subi v1372 v1369
  let c1_i32_1196 : BitVec 32 := 1#32
  let v1807 : BitVec 32 := Scalar.divsi v1805 c1_i32_1196
  let v1808 : BitVec 32 := Scalar.muli v1807 c1_i32_1196
  let v1809 : BitVec 32 := Scalar.addi v1369 v1808
  let v1806 : BitVec 32 := Scalar.addi v1369 v1805
  let c1_i32_1198 : BitVec 32 := 1#32
  ⟨v1809, v1806, c1_i32_1198⟩
def k1_off655 (i : grid1.Coords) (v452 : BitVec 32) (v458 : BitVec 32) (k1_t164 : Fin (k1_t164_loop i v452 v458).trips) : Fin 2 → Nat :=
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let c256_i32_861 : BitVec 32 := 256#32
  let c0_i32_860 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c512_i32_859 : BitVec 32 := 512#32
  let v1370 : BitVec 32 := Scalar.subi v462 c512_i32_859
  let v1371 : BitVec 32 := Scalar.maxsi c0_i32_860 v1370
  let v1372 : BitVec 32 := Scalar.minsi c256_i32_861 v1371
  let v1805 : BitVec 32 := Scalar.subi v1372 v1369
  let c1_i32_1196 : BitVec 32 := 1#32
  let v1807 : BitVec 32 := Scalar.divsi v1805 c1_i32_1196
  let v1808 : BitVec 32 := Scalar.muli v1807 c1_i32_1196
  let v1809 : BitVec 32 := Scalar.addi v1369 v1808
  let c1_i32_1198 : BitVec 32 := 1#32
  let arg13 : BitVec 32 := Scf.iv v1809 c1_i32_1198 k1_t164
  let v1828 : Index := Scalar.indexCast arg13
  let c64 : Index := 64#32
  ![v1828.toNat, 64]
def k1_off656 (i : grid1.Coords) (v452 : BitVec 32) (v458 : BitVec 32) (k1_t164 : Fin (k1_t164_loop i v452 v458).trips) : Fin 2 → Nat :=
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let c256_i32_861 : BitVec 32 := 256#32
  let c0_i32_860 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c512_i32_859 : BitVec 32 := 512#32
  let v1370 : BitVec 32 := Scalar.subi v462 c512_i32_859
  let v1371 : BitVec 32 := Scalar.maxsi c0_i32_860 v1370
  let v1372 : BitVec 32 := Scalar.minsi c256_i32_861 v1371
  let v1805 : BitVec 32 := Scalar.subi v1372 v1369
  let c1_i32_1196 : BitVec 32 := 1#32
  let v1807 : BitVec 32 := Scalar.divsi v1805 c1_i32_1196
  let v1808 : BitVec 32 := Scalar.muli v1807 c1_i32_1196
  let v1809 : BitVec 32 := Scalar.addi v1369 v1808
  let c1_i32_1198 : BitVec 32 := 1#32
  let arg13 : BitVec 32 := Scf.iv v1809 c1_i32_1198 k1_t164
  let v1832 : Index := Scalar.indexCast arg13
  let c80 : Index := 80#32
  ![v1832.toNat, 80]
def k1_off657 (i : grid1.Coords) (v452 : BitVec 32) (v458 : BitVec 32) (k1_t164 : Fin (k1_t164_loop i v452 v458).trips) : Fin 2 → Nat :=
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let c256_i32_861 : BitVec 32 := 256#32
  let c0_i32_860 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c512_i32_859 : BitVec 32 := 512#32
  let v1370 : BitVec 32 := Scalar.subi v462 c512_i32_859
  let v1371 : BitVec 32 := Scalar.maxsi c0_i32_860 v1370
  let v1372 : BitVec 32 := Scalar.minsi c256_i32_861 v1371
  let v1805 : BitVec 32 := Scalar.subi v1372 v1369
  let c1_i32_1196 : BitVec 32 := 1#32
  let v1807 : BitVec 32 := Scalar.divsi v1805 c1_i32_1196
  let v1808 : BitVec 32 := Scalar.muli v1807 c1_i32_1196
  let v1809 : BitVec 32 := Scalar.addi v1369 v1808
  let c1_i32_1198 : BitVec 32 := 1#32
  let arg13 : BitVec 32 := Scf.iv v1809 c1_i32_1198 k1_t164
  let v1836 : Index := Scalar.indexCast arg13
  let c96 : Index := 96#32
  ![v1836.toNat, 96]
def k1_off658 (i : grid1.Coords) (v452 : BitVec 32) (v458 : BitVec 32) (k1_t164 : Fin (k1_t164_loop i v452 v458).trips) : Fin 2 → Nat :=
  let c256_i32_858 : BitVec 32 := 256#32
  let c0_i32_857 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c512_i32_856 : BitVec 32 := 512#32
  let v1367 : BitVec 32 := Scalar.subi v456 c512_i32_856
  let v1368 : BitVec 32 := Scalar.maxsi c0_i32_857 v1367
  let v1369 : BitVec 32 := Scalar.minsi c256_i32_858 v1368
  let c256_i32_861 : BitVec 32 := 256#32
  let c0_i32_860 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c512_i32_859 : BitVec 32 := 512#32
  let v1370 : BitVec 32 := Scalar.subi v462 c512_i32_859
  let v1371 : BitVec 32 := Scalar.maxsi c0_i32_860 v1370
  let v1372 : BitVec 32 := Scalar.minsi c256_i32_861 v1371
  let v1805 : BitVec 32 := Scalar.subi v1372 v1369
  let c1_i32_1196 : BitVec 32 := 1#32
  let v1807 : BitVec 32 := Scalar.divsi v1805 c1_i32_1196
  let v1808 : BitVec 32 := Scalar.muli v1807 c1_i32_1196
  let v1809 : BitVec 32 := Scalar.addi v1369 v1808
  let c1_i32_1198 : BitVec 32 := 1#32
  let arg13 : BitVec 32 := Scf.iv v1809 c1_i32_1198 k1_t164
  let v1840 : Index := Scalar.indexCast arg13
  let c112 : Index := 112#32
  ![v1840.toNat, 112]
@[reducible] def k1_t165_loop (i : grid1.Coords) (v464 : BitVec 32) (v469 : BitVec 32) : Scf.Loop 32 :=
  let c256_i32_865 : BitVec 32 := 256#32
  let c0_i32_864 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let c256_i32_868 : BitVec 32 := 256#32
  let c0_i32_867 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c512_i32_866 : BitVec 32 := 512#32
  let v1379 : BitVec 32 := Scalar.subi v472 c512_i32_866
  let v1380 : BitVec 32 := Scalar.maxsi c0_i32_867 v1379
  let v1381 : BitVec 32 := Scalar.minsi c256_i32_868 v1380
  let v1805 : BitVec 32 := Scalar.subi v1381 v1378
  let c1_i32_1196 : BitVec 32 := 1#32
  let v1807 : BitVec 32 := Scalar.divsi v1805 c1_i32_1196
  let v1808 : BitVec 32 := Scalar.muli v1807 c1_i32_1196
  let v1809 : BitVec 32 := Scalar.addi v1378 v1808
  let c1_i32_1197 : BitVec 32 := 1#32
  ⟨v1378, v1809, c1_i32_1197⟩
def k1_cond83 (i : grid1.Coords) (v464 : BitVec 32) (v469 : BitVec 32) : BitVec 1 :=
  let c256_i32_868 : BitVec 32 := 256#32
  let c0_i32_867 : BitVec 32 := 0#32
  let c1024_i32_204 : BitVec 32 := 1024#32
  let c0_i32_203 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v470 : BitVec 32 := Scalar.subi v469 v3
  let v471 : BitVec 32 := Scalar.maxsi c0_i32_203 v470
  let v472 : BitVec 32 := Scalar.minsi c1024_i32_204 v471
  let c512_i32_866 : BitVec 32 := 512#32
  let v1379 : BitVec 32 := Scalar.subi v472 c512_i32_866
  let v1380 : BitVec 32 := Scalar.maxsi c0_i32_867 v1379
  let v1381 : BitVec 32 := Scalar.minsi c256_i32_868 v1380
  let c256_i32_865 : BitVec 32 := 256#32
  let c0_i32_864 : BitVec 32 := 0#32
  let c1024_i32_202 : BitVec 32 := 1024#32
  let c0_i32_201 : BitVec 32 := 0#32
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let v1382 : BitVec 1 := Scalar.cmpi .sgt v1381 v1378
  let v1383 : BitVec 32 := Scalar.extui v1382
  let c0_i32_869 : BitVec 32 := 0#32
  let v1384 : BitVec 1 := Scalar.cmpi .ne v1383 c0_i32_869
  v1384

def k1_off659 (i : grid1.Coords) (v464 : BitVec 32) (v469 : BitVec 32) (k1_t165 : Fin (k1_t165_loop i v464 v469).trips) : Fin 2 → Nat :=
  let c256_i32_865 : BitVec 32 := 256#32
  let c0_i32_864 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let c1_i32_1197 : BitVec 32 := 1#32
  let arg13 : BitVec 32 := Scf.iv v1378 c1_i32_1197 k1_t165
  let v1828 : Index := Scalar.indexCast arg13
  let c0_1207 : Index := 0#32
  ![v1828.toNat, 0]
def k1_off660 (i : grid1.Coords) (v464 : BitVec 32) (v469 : BitVec 32) (k1_t165 : Fin (k1_t165_loop i v464 v469).trips) : Fin 2 → Nat :=
  let c256_i32_865 : BitVec 32 := 256#32
  let c0_i32_864 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let c1_i32_1197 : BitVec 32 := 1#32
  let arg13 : BitVec 32 := Scf.iv v1378 c1_i32_1197 k1_t165
  let v1832 : Index := Scalar.indexCast arg13
  let c16_1208 : Index := 16#32
  ![v1832.toNat, 16]
def k1_off661 (i : grid1.Coords) (v464 : BitVec 32) (v469 : BitVec 32) (k1_t165 : Fin (k1_t165_loop i v464 v469).trips) : Fin 2 → Nat :=
  let c256_i32_865 : BitVec 32 := 256#32
  let c0_i32_864 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let c1_i32_1197 : BitVec 32 := 1#32
  let arg13 : BitVec 32 := Scf.iv v1378 c1_i32_1197 k1_t165
  let v1836 : Index := Scalar.indexCast arg13
  let c32_1209 : Index := 32#32
  ![v1836.toNat, 32]
def k1_off662 (i : grid1.Coords) (v464 : BitVec 32) (v469 : BitVec 32) (k1_t165 : Fin (k1_t165_loop i v464 v469).trips) : Fin 2 → Nat :=
  let c256_i32_865 : BitVec 32 := 256#32
  let c0_i32_864 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let c1_i32_1197 : BitVec 32 := 1#32
  let arg13 : BitVec 32 := Scf.iv v1378 c1_i32_1197 k1_t165
  let v1840 : Index := Scalar.indexCast arg13
  let c48_1210 : Index := 48#32
  ![v1840.toNat, 48]
@[reducible] def k1_t166_loop (i : grid1.Coords) (v464 : BitVec 32) (v469 : BitVec 32) : Scf.Loop 32 :=
  let c256_i32_865 : BitVec 32 := 256#32
  let c0_i32_864 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let c256_i32_868 : BitVec 32 := 256#32
  let c0_i32_867 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c512_i32_866 : BitVec 32 := 512#32
  let v1379 : BitVec 32 := Scalar.subi v472 c512_i32_866
  let v1380 : BitVec 32 := Scalar.maxsi c0_i32_867 v1379
  let v1381 : BitVec 32 := Scalar.minsi c256_i32_868 v1380
  let v1805 : BitVec 32 := Scalar.subi v1381 v1378
  let c1_i32_1196 : BitVec 32 := 1#32
  let v1807 : BitVec 32 := Scalar.divsi v1805 c1_i32_1196
  let v1808 : BitVec 32 := Scalar.muli v1807 c1_i32_1196
  let v1809 : BitVec 32 := Scalar.addi v1378 v1808
  let v1806 : BitVec 32 := Scalar.addi v1378 v1805
  let c1_i32_1198 : BitVec 32 := 1#32
  ⟨v1809, v1806, c1_i32_1198⟩
def k1_off663 (i : grid1.Coords) (v464 : BitVec 32) (v469 : BitVec 32) (k1_t166 : Fin (k1_t166_loop i v464 v469).trips) : Fin 2 → Nat :=
  let c256_i32_865 : BitVec 32 := 256#32
  let c0_i32_864 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let c256_i32_868 : BitVec 32 := 256#32
  let c0_i32_867 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c512_i32_866 : BitVec 32 := 512#32
  let v1379 : BitVec 32 := Scalar.subi v472 c512_i32_866
  let v1380 : BitVec 32 := Scalar.maxsi c0_i32_867 v1379
  let v1381 : BitVec 32 := Scalar.minsi c256_i32_868 v1380
  let v1805 : BitVec 32 := Scalar.subi v1381 v1378
  let c1_i32_1196 : BitVec 32 := 1#32
  let v1807 : BitVec 32 := Scalar.divsi v1805 c1_i32_1196
  let v1808 : BitVec 32 := Scalar.muli v1807 c1_i32_1196
  let v1809 : BitVec 32 := Scalar.addi v1378 v1808
  let c1_i32_1198 : BitVec 32 := 1#32
  let arg13 : BitVec 32 := Scf.iv v1809 c1_i32_1198 k1_t166
  let v1828 : Index := Scalar.indexCast arg13
  let c0_1207 : Index := 0#32
  ![v1828.toNat, 0]
def k1_off664 (i : grid1.Coords) (v464 : BitVec 32) (v469 : BitVec 32) (k1_t166 : Fin (k1_t166_loop i v464 v469).trips) : Fin 2 → Nat :=
  let c256_i32_865 : BitVec 32 := 256#32
  let c0_i32_864 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let c256_i32_868 : BitVec 32 := 256#32
  let c0_i32_867 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c512_i32_866 : BitVec 32 := 512#32
  let v1379 : BitVec 32 := Scalar.subi v472 c512_i32_866
  let v1380 : BitVec 32 := Scalar.maxsi c0_i32_867 v1379
  let v1381 : BitVec 32 := Scalar.minsi c256_i32_868 v1380
  let v1805 : BitVec 32 := Scalar.subi v1381 v1378
  let c1_i32_1196 : BitVec 32 := 1#32
  let v1807 : BitVec 32 := Scalar.divsi v1805 c1_i32_1196
  let v1808 : BitVec 32 := Scalar.muli v1807 c1_i32_1196
  let v1809 : BitVec 32 := Scalar.addi v1378 v1808
  let c1_i32_1198 : BitVec 32 := 1#32
  let arg13 : BitVec 32 := Scf.iv v1809 c1_i32_1198 k1_t166
  let v1832 : Index := Scalar.indexCast arg13
  let c16_1208 : Index := 16#32
  ![v1832.toNat, 16]
def k1_off665 (i : grid1.Coords) (v464 : BitVec 32) (v469 : BitVec 32) (k1_t166 : Fin (k1_t166_loop i v464 v469).trips) : Fin 2 → Nat :=
  let c256_i32_865 : BitVec 32 := 256#32
  let c0_i32_864 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let c256_i32_868 : BitVec 32 := 256#32
  let c0_i32_867 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c512_i32_866 : BitVec 32 := 512#32
  let v1379 : BitVec 32 := Scalar.subi v472 c512_i32_866
  let v1380 : BitVec 32 := Scalar.maxsi c0_i32_867 v1379
  let v1381 : BitVec 32 := Scalar.minsi c256_i32_868 v1380
  let v1805 : BitVec 32 := Scalar.subi v1381 v1378
  let c1_i32_1196 : BitVec 32 := 1#32
  let v1807 : BitVec 32 := Scalar.divsi v1805 c1_i32_1196
  let v1808 : BitVec 32 := Scalar.muli v1807 c1_i32_1196
  let v1809 : BitVec 32 := Scalar.addi v1378 v1808
  let c1_i32_1198 : BitVec 32 := 1#32
  let arg13 : BitVec 32 := Scf.iv v1809 c1_i32_1198 k1_t166
  let v1836 : Index := Scalar.indexCast arg13
  let c32_1209 : Index := 32#32
  ![v1836.toNat, 32]
def k1_off666 (i : grid1.Coords) (v464 : BitVec 32) (v469 : BitVec 32) (k1_t166 : Fin (k1_t166_loop i v464 v469).trips) : Fin 2 → Nat :=
  let c256_i32_865 : BitVec 32 := 256#32
  let c0_i32_864 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c512_i32_863 : BitVec 32 := 512#32
  let v1376 : BitVec 32 := Scalar.subi v467 c512_i32_863
  let v1377 : BitVec 32 := Scalar.maxsi c0_i32_864 v1376
  let v1378 : BitVec 32 := Scalar.minsi c256_i32_865 v1377
  let c256_i32_868 : BitVec 32 := 256#32
  let c0_i32_867 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c512_i32_866 : BitVec 32 := 512#32
  let v1379 : BitVec 32 := Scalar.subi v472 c512_i32_866
  let v1380 : BitVec 32 := Scalar.maxsi c0_i32_867 v1379
  let v1381 : BitVec 32 := Scalar.minsi c256_i32_868 v1380
  let v1805 : BitVec 32 := Scalar.subi v1381 v1378
  let c1_i32_1196 : BitVec 32 := 1#32
  let v1807 : BitVec 32 := Scalar.divsi v1805 c1_i32_1196
  let v1808 : BitVec 32 := Scalar.muli v1807 c1_i32_1196
  let v1809 : BitVec 32 := Scalar.addi v1378 v1808
  let c1_i32_1198 : BitVec 32 := 1#32
  let arg13 : BitVec 32 := Scf.iv v1809 c1_i32_1198 k1_t166
  let v1840 : Index := Scalar.indexCast arg13
  let c48_1210 : Index := 48#32
  ![v1840.toNat, 48]
@[reducible] def k1_t167_loop (i : grid1.Coords) (v474 : BitVec 32) (v480 : BitVec 32) : Scf.Loop 32 :=
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let c256_i32_875 : BitVec 32 := 256#32
  let c0_i32_874 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c512_i32_873 : BitVec 32 := 512#32
  let v1388 : BitVec 32 := Scalar.subi v484 c512_i32_873
  let v1389 : BitVec 32 := Scalar.maxsi c0_i32_874 v1388
  let v1390 : BitVec 32 := Scalar.minsi c256_i32_875 v1389
  let v1805 : BitVec 32 := Scalar.subi v1390 v1387
  let c1_i32_1196 : BitVec 32 := 1#32
  let v1807 : BitVec 32 := Scalar.divsi v1805 c1_i32_1196
  let v1808 : BitVec 32 := Scalar.muli v1807 c1_i32_1196
  let v1809 : BitVec 32 := Scalar.addi v1387 v1808
  let c1_i32_1197 : BitVec 32 := 1#32
  ⟨v1387, v1809, c1_i32_1197⟩
def k1_cond84 (i : grid1.Coords) (v474 : BitVec 32) (v480 : BitVec 32) : BitVec 1 :=
  let c256_i32_875 : BitVec 32 := 256#32
  let c0_i32_874 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v482 : BitVec 32 := Scalar.subi v481 v3
  let v483 : BitVec 32 := Scalar.maxsi c0_i32_209 v482
  let v484 : BitVec 32 := Scalar.minsi c1024_i32_210 v483
  let c512_i32_873 : BitVec 32 := 512#32
  let v1388 : BitVec 32 := Scalar.subi v484 c512_i32_873
  let v1389 : BitVec 32 := Scalar.maxsi c0_i32_874 v1388
  let v1390 : BitVec 32 := Scalar.minsi c256_i32_875 v1389
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let v1391 : BitVec 1 := Scalar.cmpi .sgt v1390 v1387
  let v1392 : BitVec 32 := Scalar.extui v1391
  let c0_i32_876 : BitVec 32 := 0#32
  let v1393 : BitVec 1 := Scalar.cmpi .ne v1392 c0_i32_876
  v1393

def k1_off667 (i : grid1.Coords) (v474 : BitVec 32) (v480 : BitVec 32) (k1_t167 : Fin (k1_t167_loop i v474 v480).trips) : Fin 2 → Nat :=
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let c1_i32_1197 : BitVec 32 := 1#32
  let arg13 : BitVec 32 := Scf.iv v1387 c1_i32_1197 k1_t167
  let v1828 : Index := Scalar.indexCast arg13
  let c64 : Index := 64#32
  ![v1828.toNat, 64]
def k1_off668 (i : grid1.Coords) (v474 : BitVec 32) (v480 : BitVec 32) (k1_t167 : Fin (k1_t167_loop i v474 v480).trips) : Fin 2 → Nat :=
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let c1_i32_1197 : BitVec 32 := 1#32
  let arg13 : BitVec 32 := Scf.iv v1387 c1_i32_1197 k1_t167
  let v1832 : Index := Scalar.indexCast arg13
  let c80 : Index := 80#32
  ![v1832.toNat, 80]
def k1_off669 (i : grid1.Coords) (v474 : BitVec 32) (v480 : BitVec 32) (k1_t167 : Fin (k1_t167_loop i v474 v480).trips) : Fin 2 → Nat :=
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let c1_i32_1197 : BitVec 32 := 1#32
  let arg13 : BitVec 32 := Scf.iv v1387 c1_i32_1197 k1_t167
  let v1836 : Index := Scalar.indexCast arg13
  let c96 : Index := 96#32
  ![v1836.toNat, 96]
def k1_off670 (i : grid1.Coords) (v474 : BitVec 32) (v480 : BitVec 32) (k1_t167 : Fin (k1_t167_loop i v474 v480).trips) : Fin 2 → Nat :=
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let c1_i32_1197 : BitVec 32 := 1#32
  let arg13 : BitVec 32 := Scf.iv v1387 c1_i32_1197 k1_t167
  let v1840 : Index := Scalar.indexCast arg13
  let c112 : Index := 112#32
  ![v1840.toNat, 112]
@[reducible] def k1_t168_loop (i : grid1.Coords) (v474 : BitVec 32) (v480 : BitVec 32) : Scf.Loop 32 :=
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let c256_i32_875 : BitVec 32 := 256#32
  let c0_i32_874 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c512_i32_873 : BitVec 32 := 512#32
  let v1388 : BitVec 32 := Scalar.subi v484 c512_i32_873
  let v1389 : BitVec 32 := Scalar.maxsi c0_i32_874 v1388
  let v1390 : BitVec 32 := Scalar.minsi c256_i32_875 v1389
  let v1805 : BitVec 32 := Scalar.subi v1390 v1387
  let c1_i32_1196 : BitVec 32 := 1#32
  let v1807 : BitVec 32 := Scalar.divsi v1805 c1_i32_1196
  let v1808 : BitVec 32 := Scalar.muli v1807 c1_i32_1196
  let v1809 : BitVec 32 := Scalar.addi v1387 v1808
  let v1806 : BitVec 32 := Scalar.addi v1387 v1805
  let c1_i32_1198 : BitVec 32 := 1#32
  ⟨v1809, v1806, c1_i32_1198⟩
def k1_off671 (i : grid1.Coords) (v474 : BitVec 32) (v480 : BitVec 32) (k1_t168 : Fin (k1_t168_loop i v474 v480).trips) : Fin 2 → Nat :=
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let c256_i32_875 : BitVec 32 := 256#32
  let c0_i32_874 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c512_i32_873 : BitVec 32 := 512#32
  let v1388 : BitVec 32 := Scalar.subi v484 c512_i32_873
  let v1389 : BitVec 32 := Scalar.maxsi c0_i32_874 v1388
  let v1390 : BitVec 32 := Scalar.minsi c256_i32_875 v1389
  let v1805 : BitVec 32 := Scalar.subi v1390 v1387
  let c1_i32_1196 : BitVec 32 := 1#32
  let v1807 : BitVec 32 := Scalar.divsi v1805 c1_i32_1196
  let v1808 : BitVec 32 := Scalar.muli v1807 c1_i32_1196
  let v1809 : BitVec 32 := Scalar.addi v1387 v1808
  let c1_i32_1198 : BitVec 32 := 1#32
  let arg13 : BitVec 32 := Scf.iv v1809 c1_i32_1198 k1_t168
  let v1828 : Index := Scalar.indexCast arg13
  let c64 : Index := 64#32
  ![v1828.toNat, 64]
def k1_off672 (i : grid1.Coords) (v474 : BitVec 32) (v480 : BitVec 32) (k1_t168 : Fin (k1_t168_loop i v474 v480).trips) : Fin 2 → Nat :=
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let c256_i32_875 : BitVec 32 := 256#32
  let c0_i32_874 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c512_i32_873 : BitVec 32 := 512#32
  let v1388 : BitVec 32 := Scalar.subi v484 c512_i32_873
  let v1389 : BitVec 32 := Scalar.maxsi c0_i32_874 v1388
  let v1390 : BitVec 32 := Scalar.minsi c256_i32_875 v1389
  let v1805 : BitVec 32 := Scalar.subi v1390 v1387
  let c1_i32_1196 : BitVec 32 := 1#32
  let v1807 : BitVec 32 := Scalar.divsi v1805 c1_i32_1196
  let v1808 : BitVec 32 := Scalar.muli v1807 c1_i32_1196
  let v1809 : BitVec 32 := Scalar.addi v1387 v1808
  let c1_i32_1198 : BitVec 32 := 1#32
  let arg13 : BitVec 32 := Scf.iv v1809 c1_i32_1198 k1_t168
  let v1832 : Index := Scalar.indexCast arg13
  let c80 : Index := 80#32
  ![v1832.toNat, 80]
def k1_off673 (i : grid1.Coords) (v474 : BitVec 32) (v480 : BitVec 32) (k1_t168 : Fin (k1_t168_loop i v474 v480).trips) : Fin 2 → Nat :=
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let c256_i32_875 : BitVec 32 := 256#32
  let c0_i32_874 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c512_i32_873 : BitVec 32 := 512#32
  let v1388 : BitVec 32 := Scalar.subi v484 c512_i32_873
  let v1389 : BitVec 32 := Scalar.maxsi c0_i32_874 v1388
  let v1390 : BitVec 32 := Scalar.minsi c256_i32_875 v1389
  let v1805 : BitVec 32 := Scalar.subi v1390 v1387
  let c1_i32_1196 : BitVec 32 := 1#32
  let v1807 : BitVec 32 := Scalar.divsi v1805 c1_i32_1196
  let v1808 : BitVec 32 := Scalar.muli v1807 c1_i32_1196
  let v1809 : BitVec 32 := Scalar.addi v1387 v1808
  let c1_i32_1198 : BitVec 32 := 1#32
  let arg13 : BitVec 32 := Scf.iv v1809 c1_i32_1198 k1_t168
  let v1836 : Index := Scalar.indexCast arg13
  let c96 : Index := 96#32
  ![v1836.toNat, 96]
def k1_off674 (i : grid1.Coords) (v474 : BitVec 32) (v480 : BitVec 32) (k1_t168 : Fin (k1_t168_loop i v474 v480).trips) : Fin 2 → Nat :=
  let c256_i32_872 : BitVec 32 := 256#32
  let c0_i32_871 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c512_i32_870 : BitVec 32 := 512#32
  let v1385 : BitVec 32 := Scalar.subi v478 c512_i32_870
  let v1386 : BitVec 32 := Scalar.maxsi c0_i32_871 v1385
  let v1387 : BitVec 32 := Scalar.minsi c256_i32_872 v1386
  let c256_i32_875 : BitVec 32 := 256#32
  let c0_i32_874 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c512_i32_873 : BitVec 32 := 512#32
  let v1388 : BitVec 32 := Scalar.subi v484 c512_i32_873
  let v1389 : BitVec 32 := Scalar.maxsi c0_i32_874 v1388
  let v1390 : BitVec 32 := Scalar.minsi c256_i32_875 v1389
  let v1805 : BitVec 32 := Scalar.subi v1390 v1387
  let c1_i32_1196 : BitVec 32 := 1#32
  let v1807 : BitVec 32 := Scalar.divsi v1805 c1_i32_1196
  let v1808 : BitVec 32 := Scalar.muli v1807 c1_i32_1196
  let v1809 : BitVec 32 := Scalar.addi v1387 v1808
  let c1_i32_1198 : BitVec 32 := 1#32
  let arg13 : BitVec 32 := Scf.iv v1809 c1_i32_1198 k1_t168
  let v1840 : Index := Scalar.indexCast arg13
  let c112 : Index := 112#32
  ![v1840.toNat, 112]
@[reducible] def k1_t169_loop (i : grid1.Coords) (v486 : BitVec 32) (v491 : BitVec 32) : Scf.Loop 32 :=
  let c256_i32_879 : BitVec 32 := 256#32
  let c0_i32_878 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let c256_i32_882 : BitVec 32 := 256#32
  let c0_i32_881 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c512_i32_880 : BitVec 32 := 512#32
  let v1397 : BitVec 32 := Scalar.subi v494 c512_i32_880
  let v1398 : BitVec 32 := Scalar.maxsi c0_i32_881 v1397
  let v1399 : BitVec 32 := Scalar.minsi c256_i32_882 v1398
  let v1805 : BitVec 32 := Scalar.subi v1399 v1396
  let c1_i32_1196 : BitVec 32 := 1#32
  let v1807 : BitVec 32 := Scalar.divsi v1805 c1_i32_1196
  let v1808 : BitVec 32 := Scalar.muli v1807 c1_i32_1196
  let v1809 : BitVec 32 := Scalar.addi v1396 v1808
  let c1_i32_1197 : BitVec 32 := 1#32
  ⟨v1396, v1809, c1_i32_1197⟩
def k1_cond85 (i : grid1.Coords) (v486 : BitVec 32) (v491 : BitVec 32) : BitVec 1 :=
  let c256_i32_882 : BitVec 32 := 256#32
  let c0_i32_881 : BitVec 32 := 0#32
  let c1024_i32_214 : BitVec 32 := 1024#32
  let c0_i32_213 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v492 : BitVec 32 := Scalar.subi v491 v3
  let v493 : BitVec 32 := Scalar.maxsi c0_i32_213 v492
  let v494 : BitVec 32 := Scalar.minsi c1024_i32_214 v493
  let c512_i32_880 : BitVec 32 := 512#32
  let v1397 : BitVec 32 := Scalar.subi v494 c512_i32_880
  let v1398 : BitVec 32 := Scalar.maxsi c0_i32_881 v1397
  let v1399 : BitVec 32 := Scalar.minsi c256_i32_882 v1398
  let c256_i32_879 : BitVec 32 := 256#32
  let c0_i32_878 : BitVec 32 := 0#32
  let c1024_i32_212 : BitVec 32 := 1024#32
  let c0_i32_211 : BitVec 32 := 0#32
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let v1400 : BitVec 1 := Scalar.cmpi .sgt v1399 v1396
  let v1401 : BitVec 32 := Scalar.extui v1400
  let c0_i32_883 : BitVec 32 := 0#32
  let v1402 : BitVec 1 := Scalar.cmpi .ne v1401 c0_i32_883
  v1402

def k1_off675 (i : grid1.Coords) (v486 : BitVec 32) (v491 : BitVec 32) (k1_t169 : Fin (k1_t169_loop i v486 v491).trips) : Fin 2 → Nat :=
  let c256_i32_879 : BitVec 32 := 256#32
  let c0_i32_878 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let c1_i32_1197 : BitVec 32 := 1#32
  let arg13 : BitVec 32 := Scf.iv v1396 c1_i32_1197 k1_t169
  let v1828 : Index := Scalar.indexCast arg13
  let c0_1207 : Index := 0#32
  ![v1828.toNat, 0]
def k1_off676 (i : grid1.Coords) (v486 : BitVec 32) (v491 : BitVec 32) (k1_t169 : Fin (k1_t169_loop i v486 v491).trips) : Fin 2 → Nat :=
  let c256_i32_879 : BitVec 32 := 256#32
  let c0_i32_878 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let c1_i32_1197 : BitVec 32 := 1#32
  let arg13 : BitVec 32 := Scf.iv v1396 c1_i32_1197 k1_t169
  let v1832 : Index := Scalar.indexCast arg13
  let c16_1208 : Index := 16#32
  ![v1832.toNat, 16]
def k1_off677 (i : grid1.Coords) (v486 : BitVec 32) (v491 : BitVec 32) (k1_t169 : Fin (k1_t169_loop i v486 v491).trips) : Fin 2 → Nat :=
  let c256_i32_879 : BitVec 32 := 256#32
  let c0_i32_878 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let c1_i32_1197 : BitVec 32 := 1#32
  let arg13 : BitVec 32 := Scf.iv v1396 c1_i32_1197 k1_t169
  let v1836 : Index := Scalar.indexCast arg13
  let c32_1209 : Index := 32#32
  ![v1836.toNat, 32]
def k1_off678 (i : grid1.Coords) (v486 : BitVec 32) (v491 : BitVec 32) (k1_t169 : Fin (k1_t169_loop i v486 v491).trips) : Fin 2 → Nat :=
  let c256_i32_879 : BitVec 32 := 256#32
  let c0_i32_878 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let c1_i32_1197 : BitVec 32 := 1#32
  let arg13 : BitVec 32 := Scf.iv v1396 c1_i32_1197 k1_t169
  let v1840 : Index := Scalar.indexCast arg13
  let c48_1210 : Index := 48#32
  ![v1840.toNat, 48]
@[reducible] def k1_t170_loop (i : grid1.Coords) (v486 : BitVec 32) (v491 : BitVec 32) : Scf.Loop 32 :=
  let c256_i32_879 : BitVec 32 := 256#32
  let c0_i32_878 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let c256_i32_882 : BitVec 32 := 256#32
  let c0_i32_881 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c512_i32_880 : BitVec 32 := 512#32
  let v1397 : BitVec 32 := Scalar.subi v494 c512_i32_880
  let v1398 : BitVec 32 := Scalar.maxsi c0_i32_881 v1397
  let v1399 : BitVec 32 := Scalar.minsi c256_i32_882 v1398
  let v1805 : BitVec 32 := Scalar.subi v1399 v1396
  let c1_i32_1196 : BitVec 32 := 1#32
  let v1807 : BitVec 32 := Scalar.divsi v1805 c1_i32_1196
  let v1808 : BitVec 32 := Scalar.muli v1807 c1_i32_1196
  let v1809 : BitVec 32 := Scalar.addi v1396 v1808
  let v1806 : BitVec 32 := Scalar.addi v1396 v1805
  let c1_i32_1198 : BitVec 32 := 1#32
  ⟨v1809, v1806, c1_i32_1198⟩
def k1_off679 (i : grid1.Coords) (v486 : BitVec 32) (v491 : BitVec 32) (k1_t170 : Fin (k1_t170_loop i v486 v491).trips) : Fin 2 → Nat :=
  let c256_i32_879 : BitVec 32 := 256#32
  let c0_i32_878 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let c256_i32_882 : BitVec 32 := 256#32
  let c0_i32_881 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c512_i32_880 : BitVec 32 := 512#32
  let v1397 : BitVec 32 := Scalar.subi v494 c512_i32_880
  let v1398 : BitVec 32 := Scalar.maxsi c0_i32_881 v1397
  let v1399 : BitVec 32 := Scalar.minsi c256_i32_882 v1398
  let v1805 : BitVec 32 := Scalar.subi v1399 v1396
  let c1_i32_1196 : BitVec 32 := 1#32
  let v1807 : BitVec 32 := Scalar.divsi v1805 c1_i32_1196
  let v1808 : BitVec 32 := Scalar.muli v1807 c1_i32_1196
  let v1809 : BitVec 32 := Scalar.addi v1396 v1808
  let c1_i32_1198 : BitVec 32 := 1#32
  let arg13 : BitVec 32 := Scf.iv v1809 c1_i32_1198 k1_t170
  let v1828 : Index := Scalar.indexCast arg13
  let c0_1207 : Index := 0#32
  ![v1828.toNat, 0]
def k1_off680 (i : grid1.Coords) (v486 : BitVec 32) (v491 : BitVec 32) (k1_t170 : Fin (k1_t170_loop i v486 v491).trips) : Fin 2 → Nat :=
  let c256_i32_879 : BitVec 32 := 256#32
  let c0_i32_878 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let c256_i32_882 : BitVec 32 := 256#32
  let c0_i32_881 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c512_i32_880 : BitVec 32 := 512#32
  let v1397 : BitVec 32 := Scalar.subi v494 c512_i32_880
  let v1398 : BitVec 32 := Scalar.maxsi c0_i32_881 v1397
  let v1399 : BitVec 32 := Scalar.minsi c256_i32_882 v1398
  let v1805 : BitVec 32 := Scalar.subi v1399 v1396
  let c1_i32_1196 : BitVec 32 := 1#32
  let v1807 : BitVec 32 := Scalar.divsi v1805 c1_i32_1196
  let v1808 : BitVec 32 := Scalar.muli v1807 c1_i32_1196
  let v1809 : BitVec 32 := Scalar.addi v1396 v1808
  let c1_i32_1198 : BitVec 32 := 1#32
  let arg13 : BitVec 32 := Scf.iv v1809 c1_i32_1198 k1_t170
  let v1832 : Index := Scalar.indexCast arg13
  let c16_1208 : Index := 16#32
  ![v1832.toNat, 16]
def k1_off681 (i : grid1.Coords) (v486 : BitVec 32) (v491 : BitVec 32) (k1_t170 : Fin (k1_t170_loop i v486 v491).trips) : Fin 2 → Nat :=
  let c256_i32_879 : BitVec 32 := 256#32
  let c0_i32_878 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let c256_i32_882 : BitVec 32 := 256#32
  let c0_i32_881 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c512_i32_880 : BitVec 32 := 512#32
  let v1397 : BitVec 32 := Scalar.subi v494 c512_i32_880
  let v1398 : BitVec 32 := Scalar.maxsi c0_i32_881 v1397
  let v1399 : BitVec 32 := Scalar.minsi c256_i32_882 v1398
  let v1805 : BitVec 32 := Scalar.subi v1399 v1396
  let c1_i32_1196 : BitVec 32 := 1#32
  let v1807 : BitVec 32 := Scalar.divsi v1805 c1_i32_1196
  let v1808 : BitVec 32 := Scalar.muli v1807 c1_i32_1196
  let v1809 : BitVec 32 := Scalar.addi v1396 v1808
  let c1_i32_1198 : BitVec 32 := 1#32
  let arg13 : BitVec 32 := Scf.iv v1809 c1_i32_1198 k1_t170
  let v1836 : Index := Scalar.indexCast arg13
  let c32_1209 : Index := 32#32
  ![v1836.toNat, 32]
def k1_off682 (i : grid1.Coords) (v486 : BitVec 32) (v491 : BitVec 32) (k1_t170 : Fin (k1_t170_loop i v486 v491).trips) : Fin 2 → Nat :=
  let c256_i32_879 : BitVec 32 := 256#32
  let c0_i32_878 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c512_i32_877 : BitVec 32 := 512#32
  let v1394 : BitVec 32 := Scalar.subi v489 c512_i32_877
  let v1395 : BitVec 32 := Scalar.maxsi c0_i32_878 v1394
  let v1396 : BitVec 32 := Scalar.minsi c256_i32_879 v1395
  let c256_i32_882 : BitVec 32 := 256#32
  let c0_i32_881 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c512_i32_880 : BitVec 32 := 512#32
  let v1397 : BitVec 32 := Scalar.subi v494 c512_i32_880
  let v1398 : BitVec 32 := Scalar.maxsi c0_i32_881 v1397
  let v1399 : BitVec 32 := Scalar.minsi c256_i32_882 v1398
  let v1805 : BitVec 32 := Scalar.subi v1399 v1396
  let c1_i32_1196 : BitVec 32 := 1#32
  let v1807 : BitVec 32 := Scalar.divsi v1805 c1_i32_1196
  let v1808 : BitVec 32 := Scalar.muli v1807 c1_i32_1196
  let v1809 : BitVec 32 := Scalar.addi v1396 v1808
  let c1_i32_1198 : BitVec 32 := 1#32
  let arg13 : BitVec 32 := Scf.iv v1809 c1_i32_1198 k1_t170
  let v1840 : Index := Scalar.indexCast arg13
  let c48_1210 : Index := 48#32
  ![v1840.toNat, 48]
@[reducible] def k1_t171_loop (i : grid1.Coords) (v496 : BitVec 32) (v502 : BitVec 32) : Scf.Loop 32 :=
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let c256_i32_889 : BitVec 32 := 256#32
  let c0_i32_888 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c512_i32_887 : BitVec 32 := 512#32
  let v1406 : BitVec 32 := Scalar.subi v506 c512_i32_887
  let v1407 : BitVec 32 := Scalar.maxsi c0_i32_888 v1406
  let v1408 : BitVec 32 := Scalar.minsi c256_i32_889 v1407
  let v1805 : BitVec 32 := Scalar.subi v1408 v1405
  let c1_i32_1196 : BitVec 32 := 1#32
  let v1807 : BitVec 32 := Scalar.divsi v1805 c1_i32_1196
  let v1808 : BitVec 32 := Scalar.muli v1807 c1_i32_1196
  let v1809 : BitVec 32 := Scalar.addi v1405 v1808
  let c1_i32_1197 : BitVec 32 := 1#32
  ⟨v1405, v1809, c1_i32_1197⟩
def k1_cond86 (i : grid1.Coords) (v496 : BitVec 32) (v502 : BitVec 32) : BitVec 1 :=
  let c256_i32_889 : BitVec 32 := 256#32
  let c0_i32_888 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v504 : BitVec 32 := Scalar.subi v503 v3
  let v505 : BitVec 32 := Scalar.maxsi c0_i32_219 v504
  let v506 : BitVec 32 := Scalar.minsi c1024_i32_220 v505
  let c512_i32_887 : BitVec 32 := 512#32
  let v1406 : BitVec 32 := Scalar.subi v506 c512_i32_887
  let v1407 : BitVec 32 := Scalar.maxsi c0_i32_888 v1406
  let v1408 : BitVec 32 := Scalar.minsi c256_i32_889 v1407
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let v1409 : BitVec 1 := Scalar.cmpi .sgt v1408 v1405
  let v1410 : BitVec 32 := Scalar.extui v1409
  let c0_i32_890 : BitVec 32 := 0#32
  let v1411 : BitVec 1 := Scalar.cmpi .ne v1410 c0_i32_890
  v1411

def k1_off683 (i : grid1.Coords) (v496 : BitVec 32) (v502 : BitVec 32) (k1_t171 : Fin (k1_t171_loop i v496 v502).trips) : Fin 2 → Nat :=
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let c1_i32_1197 : BitVec 32 := 1#32
  let arg13 : BitVec 32 := Scf.iv v1405 c1_i32_1197 k1_t171
  let v1828 : Index := Scalar.indexCast arg13
  let c64 : Index := 64#32
  ![v1828.toNat, 64]
def k1_off684 (i : grid1.Coords) (v496 : BitVec 32) (v502 : BitVec 32) (k1_t171 : Fin (k1_t171_loop i v496 v502).trips) : Fin 2 → Nat :=
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let c1_i32_1197 : BitVec 32 := 1#32
  let arg13 : BitVec 32 := Scf.iv v1405 c1_i32_1197 k1_t171
  let v1832 : Index := Scalar.indexCast arg13
  let c80 : Index := 80#32
  ![v1832.toNat, 80]
def k1_off685 (i : grid1.Coords) (v496 : BitVec 32) (v502 : BitVec 32) (k1_t171 : Fin (k1_t171_loop i v496 v502).trips) : Fin 2 → Nat :=
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let c1_i32_1197 : BitVec 32 := 1#32
  let arg13 : BitVec 32 := Scf.iv v1405 c1_i32_1197 k1_t171
  let v1836 : Index := Scalar.indexCast arg13
  let c96 : Index := 96#32
  ![v1836.toNat, 96]
def k1_off686 (i : grid1.Coords) (v496 : BitVec 32) (v502 : BitVec 32) (k1_t171 : Fin (k1_t171_loop i v496 v502).trips) : Fin 2 → Nat :=
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let c1_i32_1197 : BitVec 32 := 1#32
  let arg13 : BitVec 32 := Scf.iv v1405 c1_i32_1197 k1_t171
  let v1840 : Index := Scalar.indexCast arg13
  let c112 : Index := 112#32
  ![v1840.toNat, 112]
@[reducible] def k1_t172_loop (i : grid1.Coords) (v496 : BitVec 32) (v502 : BitVec 32) : Scf.Loop 32 :=
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let c256_i32_889 : BitVec 32 := 256#32
  let c0_i32_888 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c512_i32_887 : BitVec 32 := 512#32
  let v1406 : BitVec 32 := Scalar.subi v506 c512_i32_887
  let v1407 : BitVec 32 := Scalar.maxsi c0_i32_888 v1406
  let v1408 : BitVec 32 := Scalar.minsi c256_i32_889 v1407
  let v1805 : BitVec 32 := Scalar.subi v1408 v1405
  let c1_i32_1196 : BitVec 32 := 1#32
  let v1807 : BitVec 32 := Scalar.divsi v1805 c1_i32_1196
  let v1808 : BitVec 32 := Scalar.muli v1807 c1_i32_1196
  let v1809 : BitVec 32 := Scalar.addi v1405 v1808
  let v1806 : BitVec 32 := Scalar.addi v1405 v1805
  let c1_i32_1198 : BitVec 32 := 1#32
  ⟨v1809, v1806, c1_i32_1198⟩
def k1_off687 (i : grid1.Coords) (v496 : BitVec 32) (v502 : BitVec 32) (k1_t172 : Fin (k1_t172_loop i v496 v502).trips) : Fin 2 → Nat :=
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let c256_i32_889 : BitVec 32 := 256#32
  let c0_i32_888 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c512_i32_887 : BitVec 32 := 512#32
  let v1406 : BitVec 32 := Scalar.subi v506 c512_i32_887
  let v1407 : BitVec 32 := Scalar.maxsi c0_i32_888 v1406
  let v1408 : BitVec 32 := Scalar.minsi c256_i32_889 v1407
  let v1805 : BitVec 32 := Scalar.subi v1408 v1405
  let c1_i32_1196 : BitVec 32 := 1#32
  let v1807 : BitVec 32 := Scalar.divsi v1805 c1_i32_1196
  let v1808 : BitVec 32 := Scalar.muli v1807 c1_i32_1196
  let v1809 : BitVec 32 := Scalar.addi v1405 v1808
  let c1_i32_1198 : BitVec 32 := 1#32
  let arg13 : BitVec 32 := Scf.iv v1809 c1_i32_1198 k1_t172
  let v1828 : Index := Scalar.indexCast arg13
  let c64 : Index := 64#32
  ![v1828.toNat, 64]
def k1_off688 (i : grid1.Coords) (v496 : BitVec 32) (v502 : BitVec 32) (k1_t172 : Fin (k1_t172_loop i v496 v502).trips) : Fin 2 → Nat :=
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let c256_i32_889 : BitVec 32 := 256#32
  let c0_i32_888 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c512_i32_887 : BitVec 32 := 512#32
  let v1406 : BitVec 32 := Scalar.subi v506 c512_i32_887
  let v1407 : BitVec 32 := Scalar.maxsi c0_i32_888 v1406
  let v1408 : BitVec 32 := Scalar.minsi c256_i32_889 v1407
  let v1805 : BitVec 32 := Scalar.subi v1408 v1405
  let c1_i32_1196 : BitVec 32 := 1#32
  let v1807 : BitVec 32 := Scalar.divsi v1805 c1_i32_1196
  let v1808 : BitVec 32 := Scalar.muli v1807 c1_i32_1196
  let v1809 : BitVec 32 := Scalar.addi v1405 v1808
  let c1_i32_1198 : BitVec 32 := 1#32
  let arg13 : BitVec 32 := Scf.iv v1809 c1_i32_1198 k1_t172
  let v1832 : Index := Scalar.indexCast arg13
  let c80 : Index := 80#32
  ![v1832.toNat, 80]
def k1_off689 (i : grid1.Coords) (v496 : BitVec 32) (v502 : BitVec 32) (k1_t172 : Fin (k1_t172_loop i v496 v502).trips) : Fin 2 → Nat :=
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let c256_i32_889 : BitVec 32 := 256#32
  let c0_i32_888 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c512_i32_887 : BitVec 32 := 512#32
  let v1406 : BitVec 32 := Scalar.subi v506 c512_i32_887
  let v1407 : BitVec 32 := Scalar.maxsi c0_i32_888 v1406
  let v1408 : BitVec 32 := Scalar.minsi c256_i32_889 v1407
  let v1805 : BitVec 32 := Scalar.subi v1408 v1405
  let c1_i32_1196 : BitVec 32 := 1#32
  let v1807 : BitVec 32 := Scalar.divsi v1805 c1_i32_1196
  let v1808 : BitVec 32 := Scalar.muli v1807 c1_i32_1196
  let v1809 : BitVec 32 := Scalar.addi v1405 v1808
  let c1_i32_1198 : BitVec 32 := 1#32
  let arg13 : BitVec 32 := Scf.iv v1809 c1_i32_1198 k1_t172
  let v1836 : Index := Scalar.indexCast arg13
  let c96 : Index := 96#32
  ![v1836.toNat, 96]
def k1_off690 (i : grid1.Coords) (v496 : BitVec 32) (v502 : BitVec 32) (k1_t172 : Fin (k1_t172_loop i v496 v502).trips) : Fin 2 → Nat :=
  let c256_i32_886 : BitVec 32 := 256#32
  let c0_i32_885 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c512_i32_884 : BitVec 32 := 512#32
  let v1403 : BitVec 32 := Scalar.subi v500 c512_i32_884
  let v1404 : BitVec 32 := Scalar.maxsi c0_i32_885 v1403
  let v1405 : BitVec 32 := Scalar.minsi c256_i32_886 v1404
  let c256_i32_889 : BitVec 32 := 256#32
  let c0_i32_888 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c512_i32_887 : BitVec 32 := 512#32
  let v1406 : BitVec 32 := Scalar.subi v506 c512_i32_887
  let v1407 : BitVec 32 := Scalar.maxsi c0_i32_888 v1406
  let v1408 : BitVec 32 := Scalar.minsi c256_i32_889 v1407
  let v1805 : BitVec 32 := Scalar.subi v1408 v1405
  let c1_i32_1196 : BitVec 32 := 1#32
  let v1807 : BitVec 32 := Scalar.divsi v1805 c1_i32_1196
  let v1808 : BitVec 32 := Scalar.muli v1807 c1_i32_1196
  let v1809 : BitVec 32 := Scalar.addi v1405 v1808
  let c1_i32_1198 : BitVec 32 := 1#32
  let arg13 : BitVec 32 := Scf.iv v1809 c1_i32_1198 k1_t172
  let v1840 : Index := Scalar.indexCast arg13
  let c112 : Index := 112#32
  ![v1840.toNat, 112]
@[reducible] def k1_t173_loop (i : grid1.Coords) (v508 : BitVec 32) (v513 : BitVec 32) : Scf.Loop 32 :=
  let c256_i32_893 : BitVec 32 := 256#32
  let c0_i32_892 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let c256_i32_896 : BitVec 32 := 256#32
  let c0_i32_895 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c512_i32_894 : BitVec 32 := 512#32
  let v1415 : BitVec 32 := Scalar.subi v516 c512_i32_894
  let v1416 : BitVec 32 := Scalar.maxsi c0_i32_895 v1415
  let v1417 : BitVec 32 := Scalar.minsi c256_i32_896 v1416
  let v1805 : BitVec 32 := Scalar.subi v1417 v1414
  let c1_i32_1196 : BitVec 32 := 1#32
  let v1807 : BitVec 32 := Scalar.divsi v1805 c1_i32_1196
  let v1808 : BitVec 32 := Scalar.muli v1807 c1_i32_1196
  let v1809 : BitVec 32 := Scalar.addi v1414 v1808
  let c1_i32_1197 : BitVec 32 := 1#32
  ⟨v1414, v1809, c1_i32_1197⟩
def k1_cond87 (i : grid1.Coords) (v508 : BitVec 32) (v513 : BitVec 32) : BitVec 1 :=
  let c256_i32_896 : BitVec 32 := 256#32
  let c0_i32_895 : BitVec 32 := 0#32
  let c1024_i32_224 : BitVec 32 := 1024#32
  let c0_i32_223 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v514 : BitVec 32 := Scalar.subi v513 v3
  let v515 : BitVec 32 := Scalar.maxsi c0_i32_223 v514
  let v516 : BitVec 32 := Scalar.minsi c1024_i32_224 v515
  let c512_i32_894 : BitVec 32 := 512#32
  let v1415 : BitVec 32 := Scalar.subi v516 c512_i32_894
  let v1416 : BitVec 32 := Scalar.maxsi c0_i32_895 v1415
  let v1417 : BitVec 32 := Scalar.minsi c256_i32_896 v1416
  let c256_i32_893 : BitVec 32 := 256#32
  let c0_i32_892 : BitVec 32 := 0#32
  let c1024_i32_222 : BitVec 32 := 1024#32
  let c0_i32_221 : BitVec 32 := 0#32
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let v1418 : BitVec 1 := Scalar.cmpi .sgt v1417 v1414
  let v1419 : BitVec 32 := Scalar.extui v1418
  let c0_i32_897 : BitVec 32 := 0#32
  let v1420 : BitVec 1 := Scalar.cmpi .ne v1419 c0_i32_897
  v1420

def k1_off691 (i : grid1.Coords) (v508 : BitVec 32) (v513 : BitVec 32) (k1_t173 : Fin (k1_t173_loop i v508 v513).trips) : Fin 2 → Nat :=
  let c256_i32_893 : BitVec 32 := 256#32
  let c0_i32_892 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let c1_i32_1197 : BitVec 32 := 1#32
  let arg13 : BitVec 32 := Scf.iv v1414 c1_i32_1197 k1_t173
  let v1828 : Index := Scalar.indexCast arg13
  let c0_1207 : Index := 0#32
  ![v1828.toNat, 0]
def k1_off692 (i : grid1.Coords) (v508 : BitVec 32) (v513 : BitVec 32) (k1_t173 : Fin (k1_t173_loop i v508 v513).trips) : Fin 2 → Nat :=
  let c256_i32_893 : BitVec 32 := 256#32
  let c0_i32_892 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let c1_i32_1197 : BitVec 32 := 1#32
  let arg13 : BitVec 32 := Scf.iv v1414 c1_i32_1197 k1_t173
  let v1832 : Index := Scalar.indexCast arg13
  let c16_1208 : Index := 16#32
  ![v1832.toNat, 16]
def k1_off693 (i : grid1.Coords) (v508 : BitVec 32) (v513 : BitVec 32) (k1_t173 : Fin (k1_t173_loop i v508 v513).trips) : Fin 2 → Nat :=
  let c256_i32_893 : BitVec 32 := 256#32
  let c0_i32_892 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let c1_i32_1197 : BitVec 32 := 1#32
  let arg13 : BitVec 32 := Scf.iv v1414 c1_i32_1197 k1_t173
  let v1836 : Index := Scalar.indexCast arg13
  let c32_1209 : Index := 32#32
  ![v1836.toNat, 32]
def k1_off694 (i : grid1.Coords) (v508 : BitVec 32) (v513 : BitVec 32) (k1_t173 : Fin (k1_t173_loop i v508 v513).trips) : Fin 2 → Nat :=
  let c256_i32_893 : BitVec 32 := 256#32
  let c0_i32_892 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let c1_i32_1197 : BitVec 32 := 1#32
  let arg13 : BitVec 32 := Scf.iv v1414 c1_i32_1197 k1_t173
  let v1840 : Index := Scalar.indexCast arg13
  let c48_1210 : Index := 48#32
  ![v1840.toNat, 48]
@[reducible] def k1_t174_loop (i : grid1.Coords) (v508 : BitVec 32) (v513 : BitVec 32) : Scf.Loop 32 :=
  let c256_i32_893 : BitVec 32 := 256#32
  let c0_i32_892 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let c256_i32_896 : BitVec 32 := 256#32
  let c0_i32_895 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c512_i32_894 : BitVec 32 := 512#32
  let v1415 : BitVec 32 := Scalar.subi v516 c512_i32_894
  let v1416 : BitVec 32 := Scalar.maxsi c0_i32_895 v1415
  let v1417 : BitVec 32 := Scalar.minsi c256_i32_896 v1416
  let v1805 : BitVec 32 := Scalar.subi v1417 v1414
  let c1_i32_1196 : BitVec 32 := 1#32
  let v1807 : BitVec 32 := Scalar.divsi v1805 c1_i32_1196
  let v1808 : BitVec 32 := Scalar.muli v1807 c1_i32_1196
  let v1809 : BitVec 32 := Scalar.addi v1414 v1808
  let v1806 : BitVec 32 := Scalar.addi v1414 v1805
  let c1_i32_1198 : BitVec 32 := 1#32
  ⟨v1809, v1806, c1_i32_1198⟩
def k1_off695 (i : grid1.Coords) (v508 : BitVec 32) (v513 : BitVec 32) (k1_t174 : Fin (k1_t174_loop i v508 v513).trips) : Fin 2 → Nat :=
  let c256_i32_893 : BitVec 32 := 256#32
  let c0_i32_892 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let c256_i32_896 : BitVec 32 := 256#32
  let c0_i32_895 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c512_i32_894 : BitVec 32 := 512#32
  let v1415 : BitVec 32 := Scalar.subi v516 c512_i32_894
  let v1416 : BitVec 32 := Scalar.maxsi c0_i32_895 v1415
  let v1417 : BitVec 32 := Scalar.minsi c256_i32_896 v1416
  let v1805 : BitVec 32 := Scalar.subi v1417 v1414
  let c1_i32_1196 : BitVec 32 := 1#32
  let v1807 : BitVec 32 := Scalar.divsi v1805 c1_i32_1196
  let v1808 : BitVec 32 := Scalar.muli v1807 c1_i32_1196
  let v1809 : BitVec 32 := Scalar.addi v1414 v1808
  let c1_i32_1198 : BitVec 32 := 1#32
  let arg13 : BitVec 32 := Scf.iv v1809 c1_i32_1198 k1_t174
  let v1828 : Index := Scalar.indexCast arg13
  let c0_1207 : Index := 0#32
  ![v1828.toNat, 0]
def k1_off696 (i : grid1.Coords) (v508 : BitVec 32) (v513 : BitVec 32) (k1_t174 : Fin (k1_t174_loop i v508 v513).trips) : Fin 2 → Nat :=
  let c256_i32_893 : BitVec 32 := 256#32
  let c0_i32_892 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let c256_i32_896 : BitVec 32 := 256#32
  let c0_i32_895 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c512_i32_894 : BitVec 32 := 512#32
  let v1415 : BitVec 32 := Scalar.subi v516 c512_i32_894
  let v1416 : BitVec 32 := Scalar.maxsi c0_i32_895 v1415
  let v1417 : BitVec 32 := Scalar.minsi c256_i32_896 v1416
  let v1805 : BitVec 32 := Scalar.subi v1417 v1414
  let c1_i32_1196 : BitVec 32 := 1#32
  let v1807 : BitVec 32 := Scalar.divsi v1805 c1_i32_1196
  let v1808 : BitVec 32 := Scalar.muli v1807 c1_i32_1196
  let v1809 : BitVec 32 := Scalar.addi v1414 v1808
  let c1_i32_1198 : BitVec 32 := 1#32
  let arg13 : BitVec 32 := Scf.iv v1809 c1_i32_1198 k1_t174
  let v1832 : Index := Scalar.indexCast arg13
  let c16_1208 : Index := 16#32
  ![v1832.toNat, 16]
def k1_off697 (i : grid1.Coords) (v508 : BitVec 32) (v513 : BitVec 32) (k1_t174 : Fin (k1_t174_loop i v508 v513).trips) : Fin 2 → Nat :=
  let c256_i32_893 : BitVec 32 := 256#32
  let c0_i32_892 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let c256_i32_896 : BitVec 32 := 256#32
  let c0_i32_895 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c512_i32_894 : BitVec 32 := 512#32
  let v1415 : BitVec 32 := Scalar.subi v516 c512_i32_894
  let v1416 : BitVec 32 := Scalar.maxsi c0_i32_895 v1415
  let v1417 : BitVec 32 := Scalar.minsi c256_i32_896 v1416
  let v1805 : BitVec 32 := Scalar.subi v1417 v1414
  let c1_i32_1196 : BitVec 32 := 1#32
  let v1807 : BitVec 32 := Scalar.divsi v1805 c1_i32_1196
  let v1808 : BitVec 32 := Scalar.muli v1807 c1_i32_1196
  let v1809 : BitVec 32 := Scalar.addi v1414 v1808
  let c1_i32_1198 : BitVec 32 := 1#32
  let arg13 : BitVec 32 := Scf.iv v1809 c1_i32_1198 k1_t174
  let v1836 : Index := Scalar.indexCast arg13
  let c32_1209 : Index := 32#32
  ![v1836.toNat, 32]
def k1_off698 (i : grid1.Coords) (v508 : BitVec 32) (v513 : BitVec 32) (k1_t174 : Fin (k1_t174_loop i v508 v513).trips) : Fin 2 → Nat :=
  let c256_i32_893 : BitVec 32 := 256#32
  let c0_i32_892 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c512_i32_891 : BitVec 32 := 512#32
  let v1412 : BitVec 32 := Scalar.subi v511 c512_i32_891
  let v1413 : BitVec 32 := Scalar.maxsi c0_i32_892 v1412
  let v1414 : BitVec 32 := Scalar.minsi c256_i32_893 v1413
  let c256_i32_896 : BitVec 32 := 256#32
  let c0_i32_895 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c512_i32_894 : BitVec 32 := 512#32
  let v1415 : BitVec 32 := Scalar.subi v516 c512_i32_894
  let v1416 : BitVec 32 := Scalar.maxsi c0_i32_895 v1415
  let v1417 : BitVec 32 := Scalar.minsi c256_i32_896 v1416
  let v1805 : BitVec 32 := Scalar.subi v1417 v1414
  let c1_i32_1196 : BitVec 32 := 1#32
  let v1807 : BitVec 32 := Scalar.divsi v1805 c1_i32_1196
  let v1808 : BitVec 32 := Scalar.muli v1807 c1_i32_1196
  let v1809 : BitVec 32 := Scalar.addi v1414 v1808
  let c1_i32_1198 : BitVec 32 := 1#32
  let arg13 : BitVec 32 := Scf.iv v1809 c1_i32_1198 k1_t174
  let v1840 : Index := Scalar.indexCast arg13
  let c48_1210 : Index := 48#32
  ![v1840.toNat, 48]
@[reducible] def k1_t175_loop (i : grid1.Coords) (v518 : BitVec 32) (v524 : BitVec 32) : Scf.Loop 32 :=
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let c256_i32_903 : BitVec 32 := 256#32
  let c0_i32_902 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c512_i32_901 : BitVec 32 := 512#32
  let v1424 : BitVec 32 := Scalar.subi v528 c512_i32_901
  let v1425 : BitVec 32 := Scalar.maxsi c0_i32_902 v1424
  let v1426 : BitVec 32 := Scalar.minsi c256_i32_903 v1425
  let v1805 : BitVec 32 := Scalar.subi v1426 v1423
  let c1_i32_1196 : BitVec 32 := 1#32
  let v1807 : BitVec 32 := Scalar.divsi v1805 c1_i32_1196
  let v1808 : BitVec 32 := Scalar.muli v1807 c1_i32_1196
  let v1809 : BitVec 32 := Scalar.addi v1423 v1808
  let c1_i32_1197 : BitVec 32 := 1#32
  ⟨v1423, v1809, c1_i32_1197⟩
def k1_cond88 (i : grid1.Coords) (v518 : BitVec 32) (v524 : BitVec 32) : BitVec 1 :=
  let c256_i32_903 : BitVec 32 := 256#32
  let c0_i32_902 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v526 : BitVec 32 := Scalar.subi v525 v3
  let v527 : BitVec 32 := Scalar.maxsi c0_i32_229 v526
  let v528 : BitVec 32 := Scalar.minsi c1024_i32_230 v527
  let c512_i32_901 : BitVec 32 := 512#32
  let v1424 : BitVec 32 := Scalar.subi v528 c512_i32_901
  let v1425 : BitVec 32 := Scalar.maxsi c0_i32_902 v1424
  let v1426 : BitVec 32 := Scalar.minsi c256_i32_903 v1425
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let v1427 : BitVec 1 := Scalar.cmpi .sgt v1426 v1423
  let v1428 : BitVec 32 := Scalar.extui v1427
  let c0_i32_904 : BitVec 32 := 0#32
  let v1429 : BitVec 1 := Scalar.cmpi .ne v1428 c0_i32_904
  v1429

def k1_off699 (i : grid1.Coords) (v518 : BitVec 32) (v524 : BitVec 32) (k1_t175 : Fin (k1_t175_loop i v518 v524).trips) : Fin 2 → Nat :=
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let c1_i32_1197 : BitVec 32 := 1#32
  let arg13 : BitVec 32 := Scf.iv v1423 c1_i32_1197 k1_t175
  let v1828 : Index := Scalar.indexCast arg13
  let c64 : Index := 64#32
  ![v1828.toNat, 64]
def k1_off700 (i : grid1.Coords) (v518 : BitVec 32) (v524 : BitVec 32) (k1_t175 : Fin (k1_t175_loop i v518 v524).trips) : Fin 2 → Nat :=
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let c1_i32_1197 : BitVec 32 := 1#32
  let arg13 : BitVec 32 := Scf.iv v1423 c1_i32_1197 k1_t175
  let v1832 : Index := Scalar.indexCast arg13
  let c80 : Index := 80#32
  ![v1832.toNat, 80]
def k1_off701 (i : grid1.Coords) (v518 : BitVec 32) (v524 : BitVec 32) (k1_t175 : Fin (k1_t175_loop i v518 v524).trips) : Fin 2 → Nat :=
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let c1_i32_1197 : BitVec 32 := 1#32
  let arg13 : BitVec 32 := Scf.iv v1423 c1_i32_1197 k1_t175
  let v1836 : Index := Scalar.indexCast arg13
  let c96 : Index := 96#32
  ![v1836.toNat, 96]
def k1_off702 (i : grid1.Coords) (v518 : BitVec 32) (v524 : BitVec 32) (k1_t175 : Fin (k1_t175_loop i v518 v524).trips) : Fin 2 → Nat :=
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let c1_i32_1197 : BitVec 32 := 1#32
  let arg13 : BitVec 32 := Scf.iv v1423 c1_i32_1197 k1_t175
  let v1840 : Index := Scalar.indexCast arg13
  let c112 : Index := 112#32
  ![v1840.toNat, 112]
@[reducible] def k1_t176_loop (i : grid1.Coords) (v518 : BitVec 32) (v524 : BitVec 32) : Scf.Loop 32 :=
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let c256_i32_903 : BitVec 32 := 256#32
  let c0_i32_902 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c512_i32_901 : BitVec 32 := 512#32
  let v1424 : BitVec 32 := Scalar.subi v528 c512_i32_901
  let v1425 : BitVec 32 := Scalar.maxsi c0_i32_902 v1424
  let v1426 : BitVec 32 := Scalar.minsi c256_i32_903 v1425
  let v1805 : BitVec 32 := Scalar.subi v1426 v1423
  let c1_i32_1196 : BitVec 32 := 1#32
  let v1807 : BitVec 32 := Scalar.divsi v1805 c1_i32_1196
  let v1808 : BitVec 32 := Scalar.muli v1807 c1_i32_1196
  let v1809 : BitVec 32 := Scalar.addi v1423 v1808
  let v1806 : BitVec 32 := Scalar.addi v1423 v1805
  let c1_i32_1198 : BitVec 32 := 1#32
  ⟨v1809, v1806, c1_i32_1198⟩
def k1_off703 (i : grid1.Coords) (v518 : BitVec 32) (v524 : BitVec 32) (k1_t176 : Fin (k1_t176_loop i v518 v524).trips) : Fin 2 → Nat :=
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let c256_i32_903 : BitVec 32 := 256#32
  let c0_i32_902 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c512_i32_901 : BitVec 32 := 512#32
  let v1424 : BitVec 32 := Scalar.subi v528 c512_i32_901
  let v1425 : BitVec 32 := Scalar.maxsi c0_i32_902 v1424
  let v1426 : BitVec 32 := Scalar.minsi c256_i32_903 v1425
  let v1805 : BitVec 32 := Scalar.subi v1426 v1423
  let c1_i32_1196 : BitVec 32 := 1#32
  let v1807 : BitVec 32 := Scalar.divsi v1805 c1_i32_1196
  let v1808 : BitVec 32 := Scalar.muli v1807 c1_i32_1196
  let v1809 : BitVec 32 := Scalar.addi v1423 v1808
  let c1_i32_1198 : BitVec 32 := 1#32
  let arg13 : BitVec 32 := Scf.iv v1809 c1_i32_1198 k1_t176
  let v1828 : Index := Scalar.indexCast arg13
  let c64 : Index := 64#32
  ![v1828.toNat, 64]
def k1_off704 (i : grid1.Coords) (v518 : BitVec 32) (v524 : BitVec 32) (k1_t176 : Fin (k1_t176_loop i v518 v524).trips) : Fin 2 → Nat :=
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let c256_i32_903 : BitVec 32 := 256#32
  let c0_i32_902 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c512_i32_901 : BitVec 32 := 512#32
  let v1424 : BitVec 32 := Scalar.subi v528 c512_i32_901
  let v1425 : BitVec 32 := Scalar.maxsi c0_i32_902 v1424
  let v1426 : BitVec 32 := Scalar.minsi c256_i32_903 v1425
  let v1805 : BitVec 32 := Scalar.subi v1426 v1423
  let c1_i32_1196 : BitVec 32 := 1#32
  let v1807 : BitVec 32 := Scalar.divsi v1805 c1_i32_1196
  let v1808 : BitVec 32 := Scalar.muli v1807 c1_i32_1196
  let v1809 : BitVec 32 := Scalar.addi v1423 v1808
  let c1_i32_1198 : BitVec 32 := 1#32
  let arg13 : BitVec 32 := Scf.iv v1809 c1_i32_1198 k1_t176
  let v1832 : Index := Scalar.indexCast arg13
  let c80 : Index := 80#32
  ![v1832.toNat, 80]
def k1_off705 (i : grid1.Coords) (v518 : BitVec 32) (v524 : BitVec 32) (k1_t176 : Fin (k1_t176_loop i v518 v524).trips) : Fin 2 → Nat :=
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let c256_i32_903 : BitVec 32 := 256#32
  let c0_i32_902 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c512_i32_901 : BitVec 32 := 512#32
  let v1424 : BitVec 32 := Scalar.subi v528 c512_i32_901
  let v1425 : BitVec 32 := Scalar.maxsi c0_i32_902 v1424
  let v1426 : BitVec 32 := Scalar.minsi c256_i32_903 v1425
  let v1805 : BitVec 32 := Scalar.subi v1426 v1423
  let c1_i32_1196 : BitVec 32 := 1#32
  let v1807 : BitVec 32 := Scalar.divsi v1805 c1_i32_1196
  let v1808 : BitVec 32 := Scalar.muli v1807 c1_i32_1196
  let v1809 : BitVec 32 := Scalar.addi v1423 v1808
  let c1_i32_1198 : BitVec 32 := 1#32
  let arg13 : BitVec 32 := Scf.iv v1809 c1_i32_1198 k1_t176
  let v1836 : Index := Scalar.indexCast arg13
  let c96 : Index := 96#32
  ![v1836.toNat, 96]
def k1_off706 (i : grid1.Coords) (v518 : BitVec 32) (v524 : BitVec 32) (k1_t176 : Fin (k1_t176_loop i v518 v524).trips) : Fin 2 → Nat :=
  let c256_i32_900 : BitVec 32 := 256#32
  let c0_i32_899 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c512_i32_898 : BitVec 32 := 512#32
  let v1421 : BitVec 32 := Scalar.subi v522 c512_i32_898
  let v1422 : BitVec 32 := Scalar.maxsi c0_i32_899 v1421
  let v1423 : BitVec 32 := Scalar.minsi c256_i32_900 v1422
  let c256_i32_903 : BitVec 32 := 256#32
  let c0_i32_902 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c512_i32_901 : BitVec 32 := 512#32
  let v1424 : BitVec 32 := Scalar.subi v528 c512_i32_901
  let v1425 : BitVec 32 := Scalar.maxsi c0_i32_902 v1424
  let v1426 : BitVec 32 := Scalar.minsi c256_i32_903 v1425
  let v1805 : BitVec 32 := Scalar.subi v1426 v1423
  let c1_i32_1196 : BitVec 32 := 1#32
  let v1807 : BitVec 32 := Scalar.divsi v1805 c1_i32_1196
  let v1808 : BitVec 32 := Scalar.muli v1807 c1_i32_1196
  let v1809 : BitVec 32 := Scalar.addi v1423 v1808
  let c1_i32_1198 : BitVec 32 := 1#32
  let arg13 : BitVec 32 := Scf.iv v1809 c1_i32_1198 k1_t176
  let v1840 : Index := Scalar.indexCast arg13
  let c112 : Index := 112#32
  ![v1840.toNat, 112]
@[reducible] def k1_t177_loop (i : grid1.Coords) (v530 : BitVec 32) (v535 : BitVec 32) : Scf.Loop 32 :=
  let c256_i32_907 : BitVec 32 := 256#32
  let c0_i32_906 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let c256_i32_910 : BitVec 32 := 256#32
  let c0_i32_909 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c512_i32_908 : BitVec 32 := 512#32
  let v1433 : BitVec 32 := Scalar.subi v538 c512_i32_908
  let v1434 : BitVec 32 := Scalar.maxsi c0_i32_909 v1433
  let v1435 : BitVec 32 := Scalar.minsi c256_i32_910 v1434
  let v1805 : BitVec 32 := Scalar.subi v1435 v1432
  let c1_i32_1196 : BitVec 32 := 1#32
  let v1807 : BitVec 32 := Scalar.divsi v1805 c1_i32_1196
  let v1808 : BitVec 32 := Scalar.muli v1807 c1_i32_1196
  let v1809 : BitVec 32 := Scalar.addi v1432 v1808
  let c1_i32_1197 : BitVec 32 := 1#32
  ⟨v1432, v1809, c1_i32_1197⟩
def k1_cond89 (i : grid1.Coords) (v530 : BitVec 32) (v535 : BitVec 32) : BitVec 1 :=
  let c256_i32_910 : BitVec 32 := 256#32
  let c0_i32_909 : BitVec 32 := 0#32
  let c1024_i32_234 : BitVec 32 := 1024#32
  let c0_i32_233 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v536 : BitVec 32 := Scalar.subi v535 v3
  let v537 : BitVec 32 := Scalar.maxsi c0_i32_233 v536
  let v538 : BitVec 32 := Scalar.minsi c1024_i32_234 v537
  let c512_i32_908 : BitVec 32 := 512#32
  let v1433 : BitVec 32 := Scalar.subi v538 c512_i32_908
  let v1434 : BitVec 32 := Scalar.maxsi c0_i32_909 v1433
  let v1435 : BitVec 32 := Scalar.minsi c256_i32_910 v1434
  let c256_i32_907 : BitVec 32 := 256#32
  let c0_i32_906 : BitVec 32 := 0#32
  let c1024_i32_232 : BitVec 32 := 1024#32
  let c0_i32_231 : BitVec 32 := 0#32
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let v1436 : BitVec 1 := Scalar.cmpi .sgt v1435 v1432
  let v1437 : BitVec 32 := Scalar.extui v1436
  let c0_i32_911 : BitVec 32 := 0#32
  let v1438 : BitVec 1 := Scalar.cmpi .ne v1437 c0_i32_911
  v1438

def k1_off707 (i : grid1.Coords) (v530 : BitVec 32) (v535 : BitVec 32) (k1_t177 : Fin (k1_t177_loop i v530 v535).trips) : Fin 2 → Nat :=
  let c256_i32_907 : BitVec 32 := 256#32
  let c0_i32_906 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let c1_i32_1197 : BitVec 32 := 1#32
  let arg13 : BitVec 32 := Scf.iv v1432 c1_i32_1197 k1_t177
  let v1828 : Index := Scalar.indexCast arg13
  let c0_1207 : Index := 0#32
  ![v1828.toNat, 0]
def k1_off708 (i : grid1.Coords) (v530 : BitVec 32) (v535 : BitVec 32) (k1_t177 : Fin (k1_t177_loop i v530 v535).trips) : Fin 2 → Nat :=
  let c256_i32_907 : BitVec 32 := 256#32
  let c0_i32_906 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let c1_i32_1197 : BitVec 32 := 1#32
  let arg13 : BitVec 32 := Scf.iv v1432 c1_i32_1197 k1_t177
  let v1832 : Index := Scalar.indexCast arg13
  let c16_1208 : Index := 16#32
  ![v1832.toNat, 16]
def k1_off709 (i : grid1.Coords) (v530 : BitVec 32) (v535 : BitVec 32) (k1_t177 : Fin (k1_t177_loop i v530 v535).trips) : Fin 2 → Nat :=
  let c256_i32_907 : BitVec 32 := 256#32
  let c0_i32_906 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let c1_i32_1197 : BitVec 32 := 1#32
  let arg13 : BitVec 32 := Scf.iv v1432 c1_i32_1197 k1_t177
  let v1836 : Index := Scalar.indexCast arg13
  let c32_1209 : Index := 32#32
  ![v1836.toNat, 32]
def k1_off710 (i : grid1.Coords) (v530 : BitVec 32) (v535 : BitVec 32) (k1_t177 : Fin (k1_t177_loop i v530 v535).trips) : Fin 2 → Nat :=
  let c256_i32_907 : BitVec 32 := 256#32
  let c0_i32_906 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let c1_i32_1197 : BitVec 32 := 1#32
  let arg13 : BitVec 32 := Scf.iv v1432 c1_i32_1197 k1_t177
  let v1840 : Index := Scalar.indexCast arg13
  let c48_1210 : Index := 48#32
  ![v1840.toNat, 48]
@[reducible] def k1_t178_loop (i : grid1.Coords) (v530 : BitVec 32) (v535 : BitVec 32) : Scf.Loop 32 :=
  let c256_i32_907 : BitVec 32 := 256#32
  let c0_i32_906 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let c256_i32_910 : BitVec 32 := 256#32
  let c0_i32_909 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c512_i32_908 : BitVec 32 := 512#32
  let v1433 : BitVec 32 := Scalar.subi v538 c512_i32_908
  let v1434 : BitVec 32 := Scalar.maxsi c0_i32_909 v1433
  let v1435 : BitVec 32 := Scalar.minsi c256_i32_910 v1434
  let v1805 : BitVec 32 := Scalar.subi v1435 v1432
  let c1_i32_1196 : BitVec 32 := 1#32
  let v1807 : BitVec 32 := Scalar.divsi v1805 c1_i32_1196
  let v1808 : BitVec 32 := Scalar.muli v1807 c1_i32_1196
  let v1809 : BitVec 32 := Scalar.addi v1432 v1808
  let v1806 : BitVec 32 := Scalar.addi v1432 v1805
  let c1_i32_1198 : BitVec 32 := 1#32
  ⟨v1809, v1806, c1_i32_1198⟩
def k1_off711 (i : grid1.Coords) (v530 : BitVec 32) (v535 : BitVec 32) (k1_t178 : Fin (k1_t178_loop i v530 v535).trips) : Fin 2 → Nat :=
  let c256_i32_907 : BitVec 32 := 256#32
  let c0_i32_906 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let c256_i32_910 : BitVec 32 := 256#32
  let c0_i32_909 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c512_i32_908 : BitVec 32 := 512#32
  let v1433 : BitVec 32 := Scalar.subi v538 c512_i32_908
  let v1434 : BitVec 32 := Scalar.maxsi c0_i32_909 v1433
  let v1435 : BitVec 32 := Scalar.minsi c256_i32_910 v1434
  let v1805 : BitVec 32 := Scalar.subi v1435 v1432
  let c1_i32_1196 : BitVec 32 := 1#32
  let v1807 : BitVec 32 := Scalar.divsi v1805 c1_i32_1196
  let v1808 : BitVec 32 := Scalar.muli v1807 c1_i32_1196
  let v1809 : BitVec 32 := Scalar.addi v1432 v1808
  let c1_i32_1198 : BitVec 32 := 1#32
  let arg13 : BitVec 32 := Scf.iv v1809 c1_i32_1198 k1_t178
  let v1828 : Index := Scalar.indexCast arg13
  let c0_1207 : Index := 0#32
  ![v1828.toNat, 0]
def k1_off712 (i : grid1.Coords) (v530 : BitVec 32) (v535 : BitVec 32) (k1_t178 : Fin (k1_t178_loop i v530 v535).trips) : Fin 2 → Nat :=
  let c256_i32_907 : BitVec 32 := 256#32
  let c0_i32_906 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let c256_i32_910 : BitVec 32 := 256#32
  let c0_i32_909 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c512_i32_908 : BitVec 32 := 512#32
  let v1433 : BitVec 32 := Scalar.subi v538 c512_i32_908
  let v1434 : BitVec 32 := Scalar.maxsi c0_i32_909 v1433
  let v1435 : BitVec 32 := Scalar.minsi c256_i32_910 v1434
  let v1805 : BitVec 32 := Scalar.subi v1435 v1432
  let c1_i32_1196 : BitVec 32 := 1#32
  let v1807 : BitVec 32 := Scalar.divsi v1805 c1_i32_1196
  let v1808 : BitVec 32 := Scalar.muli v1807 c1_i32_1196
  let v1809 : BitVec 32 := Scalar.addi v1432 v1808
  let c1_i32_1198 : BitVec 32 := 1#32
  let arg13 : BitVec 32 := Scf.iv v1809 c1_i32_1198 k1_t178
  let v1832 : Index := Scalar.indexCast arg13
  let c16_1208 : Index := 16#32
  ![v1832.toNat, 16]
def k1_off713 (i : grid1.Coords) (v530 : BitVec 32) (v535 : BitVec 32) (k1_t178 : Fin (k1_t178_loop i v530 v535).trips) : Fin 2 → Nat :=
  let c256_i32_907 : BitVec 32 := 256#32
  let c0_i32_906 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let c256_i32_910 : BitVec 32 := 256#32
  let c0_i32_909 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c512_i32_908 : BitVec 32 := 512#32
  let v1433 : BitVec 32 := Scalar.subi v538 c512_i32_908
  let v1434 : BitVec 32 := Scalar.maxsi c0_i32_909 v1433
  let v1435 : BitVec 32 := Scalar.minsi c256_i32_910 v1434
  let v1805 : BitVec 32 := Scalar.subi v1435 v1432
  let c1_i32_1196 : BitVec 32 := 1#32
  let v1807 : BitVec 32 := Scalar.divsi v1805 c1_i32_1196
  let v1808 : BitVec 32 := Scalar.muli v1807 c1_i32_1196
  let v1809 : BitVec 32 := Scalar.addi v1432 v1808
  let c1_i32_1198 : BitVec 32 := 1#32
  let arg13 : BitVec 32 := Scf.iv v1809 c1_i32_1198 k1_t178
  let v1836 : Index := Scalar.indexCast arg13
  let c32_1209 : Index := 32#32
  ![v1836.toNat, 32]
def k1_off714 (i : grid1.Coords) (v530 : BitVec 32) (v535 : BitVec 32) (k1_t178 : Fin (k1_t178_loop i v530 v535).trips) : Fin 2 → Nat :=
  let c256_i32_907 : BitVec 32 := 256#32
  let c0_i32_906 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c512_i32_905 : BitVec 32 := 512#32
  let v1430 : BitVec 32 := Scalar.subi v533 c512_i32_905
  let v1431 : BitVec 32 := Scalar.maxsi c0_i32_906 v1430
  let v1432 : BitVec 32 := Scalar.minsi c256_i32_907 v1431
  let c256_i32_910 : BitVec 32 := 256#32
  let c0_i32_909 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c512_i32_908 : BitVec 32 := 512#32
  let v1433 : BitVec 32 := Scalar.subi v538 c512_i32_908
  let v1434 : BitVec 32 := Scalar.maxsi c0_i32_909 v1433
  let v1435 : BitVec 32 := Scalar.minsi c256_i32_910 v1434
  let v1805 : BitVec 32 := Scalar.subi v1435 v1432
  let c1_i32_1196 : BitVec 32 := 1#32
  let v1807 : BitVec 32 := Scalar.divsi v1805 c1_i32_1196
  let v1808 : BitVec 32 := Scalar.muli v1807 c1_i32_1196
  let v1809 : BitVec 32 := Scalar.addi v1432 v1808
  let c1_i32_1198 : BitVec 32 := 1#32
  let arg13 : BitVec 32 := Scf.iv v1809 c1_i32_1198 k1_t178
  let v1840 : Index := Scalar.indexCast arg13
  let c48_1210 : Index := 48#32
  ![v1840.toNat, 48]
@[reducible] def k1_t179_loop (i : grid1.Coords) (v540 : BitVec 32) (v546 : BitVec 32) : Scf.Loop 32 :=
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let c256_i32_917 : BitVec 32 := 256#32
  let c0_i32_916 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c512_i32_915 : BitVec 32 := 512#32
  let v1442 : BitVec 32 := Scalar.subi v550 c512_i32_915
  let v1443 : BitVec 32 := Scalar.maxsi c0_i32_916 v1442
  let v1444 : BitVec 32 := Scalar.minsi c256_i32_917 v1443
  let v1805 : BitVec 32 := Scalar.subi v1444 v1441
  let c1_i32_1196 : BitVec 32 := 1#32
  let v1807 : BitVec 32 := Scalar.divsi v1805 c1_i32_1196
  let v1808 : BitVec 32 := Scalar.muli v1807 c1_i32_1196
  let v1809 : BitVec 32 := Scalar.addi v1441 v1808
  let c1_i32_1197 : BitVec 32 := 1#32
  ⟨v1441, v1809, c1_i32_1197⟩
def k1_cond90 (i : grid1.Coords) (v540 : BitVec 32) (v546 : BitVec 32) : BitVec 1 :=
  let c256_i32_917 : BitVec 32 := 256#32
  let c0_i32_916 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v548 : BitVec 32 := Scalar.subi v547 v3
  let v549 : BitVec 32 := Scalar.maxsi c0_i32_239 v548
  let v550 : BitVec 32 := Scalar.minsi c1024_i32_240 v549
  let c512_i32_915 : BitVec 32 := 512#32
  let v1442 : BitVec 32 := Scalar.subi v550 c512_i32_915
  let v1443 : BitVec 32 := Scalar.maxsi c0_i32_916 v1442
  let v1444 : BitVec 32 := Scalar.minsi c256_i32_917 v1443
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let v1445 : BitVec 1 := Scalar.cmpi .sgt v1444 v1441
  let v1446 : BitVec 32 := Scalar.extui v1445
  let c0_i32_918 : BitVec 32 := 0#32
  let v1447 : BitVec 1 := Scalar.cmpi .ne v1446 c0_i32_918
  v1447

def k1_off715 (i : grid1.Coords) (v540 : BitVec 32) (v546 : BitVec 32) (k1_t179 : Fin (k1_t179_loop i v540 v546).trips) : Fin 2 → Nat :=
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let c1_i32_1197 : BitVec 32 := 1#32
  let arg13 : BitVec 32 := Scf.iv v1441 c1_i32_1197 k1_t179
  let v1828 : Index := Scalar.indexCast arg13
  let c64 : Index := 64#32
  ![v1828.toNat, 64]
def k1_off716 (i : grid1.Coords) (v540 : BitVec 32) (v546 : BitVec 32) (k1_t179 : Fin (k1_t179_loop i v540 v546).trips) : Fin 2 → Nat :=
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let c1_i32_1197 : BitVec 32 := 1#32
  let arg13 : BitVec 32 := Scf.iv v1441 c1_i32_1197 k1_t179
  let v1832 : Index := Scalar.indexCast arg13
  let c80 : Index := 80#32
  ![v1832.toNat, 80]
def k1_off717 (i : grid1.Coords) (v540 : BitVec 32) (v546 : BitVec 32) (k1_t179 : Fin (k1_t179_loop i v540 v546).trips) : Fin 2 → Nat :=
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let c1_i32_1197 : BitVec 32 := 1#32
  let arg13 : BitVec 32 := Scf.iv v1441 c1_i32_1197 k1_t179
  let v1836 : Index := Scalar.indexCast arg13
  let c96 : Index := 96#32
  ![v1836.toNat, 96]
def k1_off718 (i : grid1.Coords) (v540 : BitVec 32) (v546 : BitVec 32) (k1_t179 : Fin (k1_t179_loop i v540 v546).trips) : Fin 2 → Nat :=
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let c1_i32_1197 : BitVec 32 := 1#32
  let arg13 : BitVec 32 := Scf.iv v1441 c1_i32_1197 k1_t179
  let v1840 : Index := Scalar.indexCast arg13
  let c112 : Index := 112#32
  ![v1840.toNat, 112]
@[reducible] def k1_t180_loop (i : grid1.Coords) (v540 : BitVec 32) (v546 : BitVec 32) : Scf.Loop 32 :=
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let c256_i32_917 : BitVec 32 := 256#32
  let c0_i32_916 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c512_i32_915 : BitVec 32 := 512#32
  let v1442 : BitVec 32 := Scalar.subi v550 c512_i32_915
  let v1443 : BitVec 32 := Scalar.maxsi c0_i32_916 v1442
  let v1444 : BitVec 32 := Scalar.minsi c256_i32_917 v1443
  let v1805 : BitVec 32 := Scalar.subi v1444 v1441
  let c1_i32_1196 : BitVec 32 := 1#32
  let v1807 : BitVec 32 := Scalar.divsi v1805 c1_i32_1196
  let v1808 : BitVec 32 := Scalar.muli v1807 c1_i32_1196
  let v1809 : BitVec 32 := Scalar.addi v1441 v1808
  let v1806 : BitVec 32 := Scalar.addi v1441 v1805
  let c1_i32_1198 : BitVec 32 := 1#32
  ⟨v1809, v1806, c1_i32_1198⟩
def k1_off719 (i : grid1.Coords) (v540 : BitVec 32) (v546 : BitVec 32) (k1_t180 : Fin (k1_t180_loop i v540 v546).trips) : Fin 2 → Nat :=
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let c256_i32_917 : BitVec 32 := 256#32
  let c0_i32_916 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c512_i32_915 : BitVec 32 := 512#32
  let v1442 : BitVec 32 := Scalar.subi v550 c512_i32_915
  let v1443 : BitVec 32 := Scalar.maxsi c0_i32_916 v1442
  let v1444 : BitVec 32 := Scalar.minsi c256_i32_917 v1443
  let v1805 : BitVec 32 := Scalar.subi v1444 v1441
  let c1_i32_1196 : BitVec 32 := 1#32
  let v1807 : BitVec 32 := Scalar.divsi v1805 c1_i32_1196
  let v1808 : BitVec 32 := Scalar.muli v1807 c1_i32_1196
  let v1809 : BitVec 32 := Scalar.addi v1441 v1808
  let c1_i32_1198 : BitVec 32 := 1#32
  let arg13 : BitVec 32 := Scf.iv v1809 c1_i32_1198 k1_t180
  let v1828 : Index := Scalar.indexCast arg13
  let c64 : Index := 64#32
  ![v1828.toNat, 64]
def k1_off720 (i : grid1.Coords) (v540 : BitVec 32) (v546 : BitVec 32) (k1_t180 : Fin (k1_t180_loop i v540 v546).trips) : Fin 2 → Nat :=
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let c256_i32_917 : BitVec 32 := 256#32
  let c0_i32_916 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c512_i32_915 : BitVec 32 := 512#32
  let v1442 : BitVec 32 := Scalar.subi v550 c512_i32_915
  let v1443 : BitVec 32 := Scalar.maxsi c0_i32_916 v1442
  let v1444 : BitVec 32 := Scalar.minsi c256_i32_917 v1443
  let v1805 : BitVec 32 := Scalar.subi v1444 v1441
  let c1_i32_1196 : BitVec 32 := 1#32
  let v1807 : BitVec 32 := Scalar.divsi v1805 c1_i32_1196
  let v1808 : BitVec 32 := Scalar.muli v1807 c1_i32_1196
  let v1809 : BitVec 32 := Scalar.addi v1441 v1808
  let c1_i32_1198 : BitVec 32 := 1#32
  let arg13 : BitVec 32 := Scf.iv v1809 c1_i32_1198 k1_t180
  let v1832 : Index := Scalar.indexCast arg13
  let c80 : Index := 80#32
  ![v1832.toNat, 80]
def k1_off721 (i : grid1.Coords) (v540 : BitVec 32) (v546 : BitVec 32) (k1_t180 : Fin (k1_t180_loop i v540 v546).trips) : Fin 2 → Nat :=
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let c256_i32_917 : BitVec 32 := 256#32
  let c0_i32_916 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c512_i32_915 : BitVec 32 := 512#32
  let v1442 : BitVec 32 := Scalar.subi v550 c512_i32_915
  let v1443 : BitVec 32 := Scalar.maxsi c0_i32_916 v1442
  let v1444 : BitVec 32 := Scalar.minsi c256_i32_917 v1443
  let v1805 : BitVec 32 := Scalar.subi v1444 v1441
  let c1_i32_1196 : BitVec 32 := 1#32
  let v1807 : BitVec 32 := Scalar.divsi v1805 c1_i32_1196
  let v1808 : BitVec 32 := Scalar.muli v1807 c1_i32_1196
  let v1809 : BitVec 32 := Scalar.addi v1441 v1808
  let c1_i32_1198 : BitVec 32 := 1#32
  let arg13 : BitVec 32 := Scf.iv v1809 c1_i32_1198 k1_t180
  let v1836 : Index := Scalar.indexCast arg13
  let c96 : Index := 96#32
  ![v1836.toNat, 96]
def k1_off722 (i : grid1.Coords) (v540 : BitVec 32) (v546 : BitVec 32) (k1_t180 : Fin (k1_t180_loop i v540 v546).trips) : Fin 2 → Nat :=
  let c256_i32_914 : BitVec 32 := 256#32
  let c0_i32_913 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c512_i32_912 : BitVec 32 := 512#32
  let v1439 : BitVec 32 := Scalar.subi v544 c512_i32_912
  let v1440 : BitVec 32 := Scalar.maxsi c0_i32_913 v1439
  let v1441 : BitVec 32 := Scalar.minsi c256_i32_914 v1440
  let c256_i32_917 : BitVec 32 := 256#32
  let c0_i32_916 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c512_i32_915 : BitVec 32 := 512#32
  let v1442 : BitVec 32 := Scalar.subi v550 c512_i32_915
  let v1443 : BitVec 32 := Scalar.maxsi c0_i32_916 v1442
  let v1444 : BitVec 32 := Scalar.minsi c256_i32_917 v1443
  let v1805 : BitVec 32 := Scalar.subi v1444 v1441
  let c1_i32_1196 : BitVec 32 := 1#32
  let v1807 : BitVec 32 := Scalar.divsi v1805 c1_i32_1196
  let v1808 : BitVec 32 := Scalar.muli v1807 c1_i32_1196
  let v1809 : BitVec 32 := Scalar.addi v1441 v1808
  let c1_i32_1198 : BitVec 32 := 1#32
  let arg13 : BitVec 32 := Scf.iv v1809 c1_i32_1198 k1_t180
  let v1840 : Index := Scalar.indexCast arg13
  let c112 : Index := 112#32
  ![v1840.toNat, 112]
@[reducible] def k1_t181_loop (i : grid1.Coords) (v552 : BitVec 32) (v557 : BitVec 32) : Scf.Loop 32 :=
  let c256_i32_921 : BitVec 32 := 256#32
  let c0_i32_920 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let c256_i32_924 : BitVec 32 := 256#32
  let c0_i32_923 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c512_i32_922 : BitVec 32 := 512#32
  let v1451 : BitVec 32 := Scalar.subi v560 c512_i32_922
  let v1452 : BitVec 32 := Scalar.maxsi c0_i32_923 v1451
  let v1453 : BitVec 32 := Scalar.minsi c256_i32_924 v1452
  let v1805 : BitVec 32 := Scalar.subi v1453 v1450
  let c1_i32_1196 : BitVec 32 := 1#32
  let v1807 : BitVec 32 := Scalar.divsi v1805 c1_i32_1196
  let v1808 : BitVec 32 := Scalar.muli v1807 c1_i32_1196
  let v1809 : BitVec 32 := Scalar.addi v1450 v1808
  let c1_i32_1197 : BitVec 32 := 1#32
  ⟨v1450, v1809, c1_i32_1197⟩
def k1_cond91 (i : grid1.Coords) (v552 : BitVec 32) (v557 : BitVec 32) : BitVec 1 :=
  let c256_i32_924 : BitVec 32 := 256#32
  let c0_i32_923 : BitVec 32 := 0#32
  let c1024_i32_244 : BitVec 32 := 1024#32
  let c0_i32_243 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v558 : BitVec 32 := Scalar.subi v557 v3
  let v559 : BitVec 32 := Scalar.maxsi c0_i32_243 v558
  let v560 : BitVec 32 := Scalar.minsi c1024_i32_244 v559
  let c512_i32_922 : BitVec 32 := 512#32
  let v1451 : BitVec 32 := Scalar.subi v560 c512_i32_922
  let v1452 : BitVec 32 := Scalar.maxsi c0_i32_923 v1451
  let v1453 : BitVec 32 := Scalar.minsi c256_i32_924 v1452
  let c256_i32_921 : BitVec 32 := 256#32
  let c0_i32_920 : BitVec 32 := 0#32
  let c1024_i32_242 : BitVec 32 := 1024#32
  let c0_i32_241 : BitVec 32 := 0#32
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let v1454 : BitVec 1 := Scalar.cmpi .sgt v1453 v1450
  let v1455 : BitVec 32 := Scalar.extui v1454
  let c0_i32_925 : BitVec 32 := 0#32
  let v1456 : BitVec 1 := Scalar.cmpi .ne v1455 c0_i32_925
  v1456

def k1_off723 (i : grid1.Coords) (v552 : BitVec 32) (v557 : BitVec 32) (k1_t181 : Fin (k1_t181_loop i v552 v557).trips) : Fin 2 → Nat :=
  let c256_i32_921 : BitVec 32 := 256#32
  let c0_i32_920 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let c1_i32_1197 : BitVec 32 := 1#32
  let arg13 : BitVec 32 := Scf.iv v1450 c1_i32_1197 k1_t181
  let v1828 : Index := Scalar.indexCast arg13
  let c0_1207 : Index := 0#32
  ![v1828.toNat, 0]
def k1_off724 (i : grid1.Coords) (v552 : BitVec 32) (v557 : BitVec 32) (k1_t181 : Fin (k1_t181_loop i v552 v557).trips) : Fin 2 → Nat :=
  let c256_i32_921 : BitVec 32 := 256#32
  let c0_i32_920 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let c1_i32_1197 : BitVec 32 := 1#32
  let arg13 : BitVec 32 := Scf.iv v1450 c1_i32_1197 k1_t181
  let v1832 : Index := Scalar.indexCast arg13
  let c16_1208 : Index := 16#32
  ![v1832.toNat, 16]
def k1_off725 (i : grid1.Coords) (v552 : BitVec 32) (v557 : BitVec 32) (k1_t181 : Fin (k1_t181_loop i v552 v557).trips) : Fin 2 → Nat :=
  let c256_i32_921 : BitVec 32 := 256#32
  let c0_i32_920 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let c1_i32_1197 : BitVec 32 := 1#32
  let arg13 : BitVec 32 := Scf.iv v1450 c1_i32_1197 k1_t181
  let v1836 : Index := Scalar.indexCast arg13
  let c32_1209 : Index := 32#32
  ![v1836.toNat, 32]
def k1_off726 (i : grid1.Coords) (v552 : BitVec 32) (v557 : BitVec 32) (k1_t181 : Fin (k1_t181_loop i v552 v557).trips) : Fin 2 → Nat :=
  let c256_i32_921 : BitVec 32 := 256#32
  let c0_i32_920 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let c1_i32_1197 : BitVec 32 := 1#32
  let arg13 : BitVec 32 := Scf.iv v1450 c1_i32_1197 k1_t181
  let v1840 : Index := Scalar.indexCast arg13
  let c48_1210 : Index := 48#32
  ![v1840.toNat, 48]
@[reducible] def k1_t182_loop (i : grid1.Coords) (v552 : BitVec 32) (v557 : BitVec 32) : Scf.Loop 32 :=
  let c256_i32_921 : BitVec 32 := 256#32
  let c0_i32_920 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let c256_i32_924 : BitVec 32 := 256#32
  let c0_i32_923 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c512_i32_922 : BitVec 32 := 512#32
  let v1451 : BitVec 32 := Scalar.subi v560 c512_i32_922
  let v1452 : BitVec 32 := Scalar.maxsi c0_i32_923 v1451
  let v1453 : BitVec 32 := Scalar.minsi c256_i32_924 v1452
  let v1805 : BitVec 32 := Scalar.subi v1453 v1450
  let c1_i32_1196 : BitVec 32 := 1#32
  let v1807 : BitVec 32 := Scalar.divsi v1805 c1_i32_1196
  let v1808 : BitVec 32 := Scalar.muli v1807 c1_i32_1196
  let v1809 : BitVec 32 := Scalar.addi v1450 v1808
  let v1806 : BitVec 32 := Scalar.addi v1450 v1805
  let c1_i32_1198 : BitVec 32 := 1#32
  ⟨v1809, v1806, c1_i32_1198⟩
def k1_off727 (i : grid1.Coords) (v552 : BitVec 32) (v557 : BitVec 32) (k1_t182 : Fin (k1_t182_loop i v552 v557).trips) : Fin 2 → Nat :=
  let c256_i32_921 : BitVec 32 := 256#32
  let c0_i32_920 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let c256_i32_924 : BitVec 32 := 256#32
  let c0_i32_923 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c512_i32_922 : BitVec 32 := 512#32
  let v1451 : BitVec 32 := Scalar.subi v560 c512_i32_922
  let v1452 : BitVec 32 := Scalar.maxsi c0_i32_923 v1451
  let v1453 : BitVec 32 := Scalar.minsi c256_i32_924 v1452
  let v1805 : BitVec 32 := Scalar.subi v1453 v1450
  let c1_i32_1196 : BitVec 32 := 1#32
  let v1807 : BitVec 32 := Scalar.divsi v1805 c1_i32_1196
  let v1808 : BitVec 32 := Scalar.muli v1807 c1_i32_1196
  let v1809 : BitVec 32 := Scalar.addi v1450 v1808
  let c1_i32_1198 : BitVec 32 := 1#32
  let arg13 : BitVec 32 := Scf.iv v1809 c1_i32_1198 k1_t182
  let v1828 : Index := Scalar.indexCast arg13
  let c0_1207 : Index := 0#32
  ![v1828.toNat, 0]
def k1_off728 (i : grid1.Coords) (v552 : BitVec 32) (v557 : BitVec 32) (k1_t182 : Fin (k1_t182_loop i v552 v557).trips) : Fin 2 → Nat :=
  let c256_i32_921 : BitVec 32 := 256#32
  let c0_i32_920 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let c256_i32_924 : BitVec 32 := 256#32
  let c0_i32_923 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c512_i32_922 : BitVec 32 := 512#32
  let v1451 : BitVec 32 := Scalar.subi v560 c512_i32_922
  let v1452 : BitVec 32 := Scalar.maxsi c0_i32_923 v1451
  let v1453 : BitVec 32 := Scalar.minsi c256_i32_924 v1452
  let v1805 : BitVec 32 := Scalar.subi v1453 v1450
  let c1_i32_1196 : BitVec 32 := 1#32
  let v1807 : BitVec 32 := Scalar.divsi v1805 c1_i32_1196
  let v1808 : BitVec 32 := Scalar.muli v1807 c1_i32_1196
  let v1809 : BitVec 32 := Scalar.addi v1450 v1808
  let c1_i32_1198 : BitVec 32 := 1#32
  let arg13 : BitVec 32 := Scf.iv v1809 c1_i32_1198 k1_t182
  let v1832 : Index := Scalar.indexCast arg13
  let c16_1208 : Index := 16#32
  ![v1832.toNat, 16]
def k1_off729 (i : grid1.Coords) (v552 : BitVec 32) (v557 : BitVec 32) (k1_t182 : Fin (k1_t182_loop i v552 v557).trips) : Fin 2 → Nat :=
  let c256_i32_921 : BitVec 32 := 256#32
  let c0_i32_920 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let c256_i32_924 : BitVec 32 := 256#32
  let c0_i32_923 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c512_i32_922 : BitVec 32 := 512#32
  let v1451 : BitVec 32 := Scalar.subi v560 c512_i32_922
  let v1452 : BitVec 32 := Scalar.maxsi c0_i32_923 v1451
  let v1453 : BitVec 32 := Scalar.minsi c256_i32_924 v1452
  let v1805 : BitVec 32 := Scalar.subi v1453 v1450
  let c1_i32_1196 : BitVec 32 := 1#32
  let v1807 : BitVec 32 := Scalar.divsi v1805 c1_i32_1196
  let v1808 : BitVec 32 := Scalar.muli v1807 c1_i32_1196
  let v1809 : BitVec 32 := Scalar.addi v1450 v1808
  let c1_i32_1198 : BitVec 32 := 1#32
  let arg13 : BitVec 32 := Scf.iv v1809 c1_i32_1198 k1_t182
  let v1836 : Index := Scalar.indexCast arg13
  let c32_1209 : Index := 32#32
  ![v1836.toNat, 32]
def k1_off730 (i : grid1.Coords) (v552 : BitVec 32) (v557 : BitVec 32) (k1_t182 : Fin (k1_t182_loop i v552 v557).trips) : Fin 2 → Nat :=
  let c256_i32_921 : BitVec 32 := 256#32
  let c0_i32_920 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c512_i32_919 : BitVec 32 := 512#32
  let v1448 : BitVec 32 := Scalar.subi v555 c512_i32_919
  let v1449 : BitVec 32 := Scalar.maxsi c0_i32_920 v1448
  let v1450 : BitVec 32 := Scalar.minsi c256_i32_921 v1449
  let c256_i32_924 : BitVec 32 := 256#32
  let c0_i32_923 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c512_i32_922 : BitVec 32 := 512#32
  let v1451 : BitVec 32 := Scalar.subi v560 c512_i32_922
  let v1452 : BitVec 32 := Scalar.maxsi c0_i32_923 v1451
  let v1453 : BitVec 32 := Scalar.minsi c256_i32_924 v1452
  let v1805 : BitVec 32 := Scalar.subi v1453 v1450
  let c1_i32_1196 : BitVec 32 := 1#32
  let v1807 : BitVec 32 := Scalar.divsi v1805 c1_i32_1196
  let v1808 : BitVec 32 := Scalar.muli v1807 c1_i32_1196
  let v1809 : BitVec 32 := Scalar.addi v1450 v1808
  let c1_i32_1198 : BitVec 32 := 1#32
  let arg13 : BitVec 32 := Scf.iv v1809 c1_i32_1198 k1_t182
  let v1840 : Index := Scalar.indexCast arg13
  let c48_1210 : Index := 48#32
  ![v1840.toNat, 48]
@[reducible] def k1_t183_loop (i : grid1.Coords) (v562 : BitVec 32) (v568 : BitVec 32) : Scf.Loop 32 :=
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let c256_i32_931 : BitVec 32 := 256#32
  let c0_i32_930 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c512_i32_929 : BitVec 32 := 512#32
  let v1460 : BitVec 32 := Scalar.subi v572 c512_i32_929
  let v1461 : BitVec 32 := Scalar.maxsi c0_i32_930 v1460
  let v1462 : BitVec 32 := Scalar.minsi c256_i32_931 v1461
  let v1805 : BitVec 32 := Scalar.subi v1462 v1459
  let c1_i32_1196 : BitVec 32 := 1#32
  let v1807 : BitVec 32 := Scalar.divsi v1805 c1_i32_1196
  let v1808 : BitVec 32 := Scalar.muli v1807 c1_i32_1196
  let v1809 : BitVec 32 := Scalar.addi v1459 v1808
  let c1_i32_1197 : BitVec 32 := 1#32
  ⟨v1459, v1809, c1_i32_1197⟩
def k1_cond92 (i : grid1.Coords) (v562 : BitVec 32) (v568 : BitVec 32) : BitVec 1 :=
  let c256_i32_931 : BitVec 32 := 256#32
  let c0_i32_930 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v570 : BitVec 32 := Scalar.subi v569 v3
  let v571 : BitVec 32 := Scalar.maxsi c0_i32_249 v570
  let v572 : BitVec 32 := Scalar.minsi c1024_i32_250 v571
  let c512_i32_929 : BitVec 32 := 512#32
  let v1460 : BitVec 32 := Scalar.subi v572 c512_i32_929
  let v1461 : BitVec 32 := Scalar.maxsi c0_i32_930 v1460
  let v1462 : BitVec 32 := Scalar.minsi c256_i32_931 v1461
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let v1463 : BitVec 1 := Scalar.cmpi .sgt v1462 v1459
  let v1464 : BitVec 32 := Scalar.extui v1463
  let c0_i32_932 : BitVec 32 := 0#32
  let v1465 : BitVec 1 := Scalar.cmpi .ne v1464 c0_i32_932
  v1465

def k1_off731 (i : grid1.Coords) (v562 : BitVec 32) (v568 : BitVec 32) (k1_t183 : Fin (k1_t183_loop i v562 v568).trips) : Fin 2 → Nat :=
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let c1_i32_1197 : BitVec 32 := 1#32
  let arg13 : BitVec 32 := Scf.iv v1459 c1_i32_1197 k1_t183
  let v1828 : Index := Scalar.indexCast arg13
  let c64 : Index := 64#32
  ![v1828.toNat, 64]
def k1_off732 (i : grid1.Coords) (v562 : BitVec 32) (v568 : BitVec 32) (k1_t183 : Fin (k1_t183_loop i v562 v568).trips) : Fin 2 → Nat :=
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let c1_i32_1197 : BitVec 32 := 1#32
  let arg13 : BitVec 32 := Scf.iv v1459 c1_i32_1197 k1_t183
  let v1832 : Index := Scalar.indexCast arg13
  let c80 : Index := 80#32
  ![v1832.toNat, 80]
def k1_off733 (i : grid1.Coords) (v562 : BitVec 32) (v568 : BitVec 32) (k1_t183 : Fin (k1_t183_loop i v562 v568).trips) : Fin 2 → Nat :=
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let c1_i32_1197 : BitVec 32 := 1#32
  let arg13 : BitVec 32 := Scf.iv v1459 c1_i32_1197 k1_t183
  let v1836 : Index := Scalar.indexCast arg13
  let c96 : Index := 96#32
  ![v1836.toNat, 96]
def k1_off734 (i : grid1.Coords) (v562 : BitVec 32) (v568 : BitVec 32) (k1_t183 : Fin (k1_t183_loop i v562 v568).trips) : Fin 2 → Nat :=
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let c1_i32_1197 : BitVec 32 := 1#32
  let arg13 : BitVec 32 := Scf.iv v1459 c1_i32_1197 k1_t183
  let v1840 : Index := Scalar.indexCast arg13
  let c112 : Index := 112#32
  ![v1840.toNat, 112]
@[reducible] def k1_t184_loop (i : grid1.Coords) (v562 : BitVec 32) (v568 : BitVec 32) : Scf.Loop 32 :=
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let c256_i32_931 : BitVec 32 := 256#32
  let c0_i32_930 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c512_i32_929 : BitVec 32 := 512#32
  let v1460 : BitVec 32 := Scalar.subi v572 c512_i32_929
  let v1461 : BitVec 32 := Scalar.maxsi c0_i32_930 v1460
  let v1462 : BitVec 32 := Scalar.minsi c256_i32_931 v1461
  let v1805 : BitVec 32 := Scalar.subi v1462 v1459
  let c1_i32_1196 : BitVec 32 := 1#32
  let v1807 : BitVec 32 := Scalar.divsi v1805 c1_i32_1196
  let v1808 : BitVec 32 := Scalar.muli v1807 c1_i32_1196
  let v1809 : BitVec 32 := Scalar.addi v1459 v1808
  let v1806 : BitVec 32 := Scalar.addi v1459 v1805
  let c1_i32_1198 : BitVec 32 := 1#32
  ⟨v1809, v1806, c1_i32_1198⟩
def k1_off735 (i : grid1.Coords) (v562 : BitVec 32) (v568 : BitVec 32) (k1_t184 : Fin (k1_t184_loop i v562 v568).trips) : Fin 2 → Nat :=
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let c256_i32_931 : BitVec 32 := 256#32
  let c0_i32_930 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c512_i32_929 : BitVec 32 := 512#32
  let v1460 : BitVec 32 := Scalar.subi v572 c512_i32_929
  let v1461 : BitVec 32 := Scalar.maxsi c0_i32_930 v1460
  let v1462 : BitVec 32 := Scalar.minsi c256_i32_931 v1461
  let v1805 : BitVec 32 := Scalar.subi v1462 v1459
  let c1_i32_1196 : BitVec 32 := 1#32
  let v1807 : BitVec 32 := Scalar.divsi v1805 c1_i32_1196
  let v1808 : BitVec 32 := Scalar.muli v1807 c1_i32_1196
  let v1809 : BitVec 32 := Scalar.addi v1459 v1808
  let c1_i32_1198 : BitVec 32 := 1#32
  let arg13 : BitVec 32 := Scf.iv v1809 c1_i32_1198 k1_t184
  let v1828 : Index := Scalar.indexCast arg13
  let c64 : Index := 64#32
  ![v1828.toNat, 64]
def k1_off736 (i : grid1.Coords) (v562 : BitVec 32) (v568 : BitVec 32) (k1_t184 : Fin (k1_t184_loop i v562 v568).trips) : Fin 2 → Nat :=
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let c256_i32_931 : BitVec 32 := 256#32
  let c0_i32_930 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c512_i32_929 : BitVec 32 := 512#32
  let v1460 : BitVec 32 := Scalar.subi v572 c512_i32_929
  let v1461 : BitVec 32 := Scalar.maxsi c0_i32_930 v1460
  let v1462 : BitVec 32 := Scalar.minsi c256_i32_931 v1461
  let v1805 : BitVec 32 := Scalar.subi v1462 v1459
  let c1_i32_1196 : BitVec 32 := 1#32
  let v1807 : BitVec 32 := Scalar.divsi v1805 c1_i32_1196
  let v1808 : BitVec 32 := Scalar.muli v1807 c1_i32_1196
  let v1809 : BitVec 32 := Scalar.addi v1459 v1808
  let c1_i32_1198 : BitVec 32 := 1#32
  let arg13 : BitVec 32 := Scf.iv v1809 c1_i32_1198 k1_t184
  let v1832 : Index := Scalar.indexCast arg13
  let c80 : Index := 80#32
  ![v1832.toNat, 80]
def k1_off737 (i : grid1.Coords) (v562 : BitVec 32) (v568 : BitVec 32) (k1_t184 : Fin (k1_t184_loop i v562 v568).trips) : Fin 2 → Nat :=
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let c256_i32_931 : BitVec 32 := 256#32
  let c0_i32_930 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c512_i32_929 : BitVec 32 := 512#32
  let v1460 : BitVec 32 := Scalar.subi v572 c512_i32_929
  let v1461 : BitVec 32 := Scalar.maxsi c0_i32_930 v1460
  let v1462 : BitVec 32 := Scalar.minsi c256_i32_931 v1461
  let v1805 : BitVec 32 := Scalar.subi v1462 v1459
  let c1_i32_1196 : BitVec 32 := 1#32
  let v1807 : BitVec 32 := Scalar.divsi v1805 c1_i32_1196
  let v1808 : BitVec 32 := Scalar.muli v1807 c1_i32_1196
  let v1809 : BitVec 32 := Scalar.addi v1459 v1808
  let c1_i32_1198 : BitVec 32 := 1#32
  let arg13 : BitVec 32 := Scf.iv v1809 c1_i32_1198 k1_t184
  let v1836 : Index := Scalar.indexCast arg13
  let c96 : Index := 96#32
  ![v1836.toNat, 96]
def k1_off738 (i : grid1.Coords) (v562 : BitVec 32) (v568 : BitVec 32) (k1_t184 : Fin (k1_t184_loop i v562 v568).trips) : Fin 2 → Nat :=
  let c256_i32_928 : BitVec 32 := 256#32
  let c0_i32_927 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c512_i32_926 : BitVec 32 := 512#32
  let v1457 : BitVec 32 := Scalar.subi v566 c512_i32_926
  let v1458 : BitVec 32 := Scalar.maxsi c0_i32_927 v1457
  let v1459 : BitVec 32 := Scalar.minsi c256_i32_928 v1458
  let c256_i32_931 : BitVec 32 := 256#32
  let c0_i32_930 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c512_i32_929 : BitVec 32 := 512#32
  let v1460 : BitVec 32 := Scalar.subi v572 c512_i32_929
  let v1461 : BitVec 32 := Scalar.maxsi c0_i32_930 v1460
  let v1462 : BitVec 32 := Scalar.minsi c256_i32_931 v1461
  let v1805 : BitVec 32 := Scalar.subi v1462 v1459
  let c1_i32_1196 : BitVec 32 := 1#32
  let v1807 : BitVec 32 := Scalar.divsi v1805 c1_i32_1196
  let v1808 : BitVec 32 := Scalar.muli v1807 c1_i32_1196
  let v1809 : BitVec 32 := Scalar.addi v1459 v1808
  let c1_i32_1198 : BitVec 32 := 1#32
  let arg13 : BitVec 32 := Scf.iv v1809 c1_i32_1198 k1_t184
  let v1840 : Index := Scalar.indexCast arg13
  let c112 : Index := 112#32
  ![v1840.toNat, 112]
@[reducible] def k1_t185_loop (i : grid1.Coords) (v574 : BitVec 32) (v579 : BitVec 32) : Scf.Loop 32 :=
  let c256_i32_935 : BitVec 32 := 256#32
  let c0_i32_934 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let c256_i32_938 : BitVec 32 := 256#32
  let c0_i32_937 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c512_i32_936 : BitVec 32 := 512#32
  let v1469 : BitVec 32 := Scalar.subi v582 c512_i32_936
  let v1470 : BitVec 32 := Scalar.maxsi c0_i32_937 v1469
  let v1471 : BitVec 32 := Scalar.minsi c256_i32_938 v1470
  let v1805 : BitVec 32 := Scalar.subi v1471 v1468
  let c1_i32_1196 : BitVec 32 := 1#32
  let v1807 : BitVec 32 := Scalar.divsi v1805 c1_i32_1196
  let v1808 : BitVec 32 := Scalar.muli v1807 c1_i32_1196
  let v1809 : BitVec 32 := Scalar.addi v1468 v1808
  let c1_i32_1197 : BitVec 32 := 1#32
  ⟨v1468, v1809, c1_i32_1197⟩
def k1_cond93 (i : grid1.Coords) (v574 : BitVec 32) (v579 : BitVec 32) : BitVec 1 :=
  let c256_i32_938 : BitVec 32 := 256#32
  let c0_i32_937 : BitVec 32 := 0#32
  let c1024_i32_254 : BitVec 32 := 1024#32
  let c0_i32_253 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v580 : BitVec 32 := Scalar.subi v579 v3
  let v581 : BitVec 32 := Scalar.maxsi c0_i32_253 v580
  let v582 : BitVec 32 := Scalar.minsi c1024_i32_254 v581
  let c512_i32_936 : BitVec 32 := 512#32
  let v1469 : BitVec 32 := Scalar.subi v582 c512_i32_936
  let v1470 : BitVec 32 := Scalar.maxsi c0_i32_937 v1469
  let v1471 : BitVec 32 := Scalar.minsi c256_i32_938 v1470
  let c256_i32_935 : BitVec 32 := 256#32
  let c0_i32_934 : BitVec 32 := 0#32
  let c1024_i32_252 : BitVec 32 := 1024#32
  let c0_i32_251 : BitVec 32 := 0#32
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let v1472 : BitVec 1 := Scalar.cmpi .sgt v1471 v1468
  let v1473 : BitVec 32 := Scalar.extui v1472
  let c0_i32_939 : BitVec 32 := 0#32
  let v1474 : BitVec 1 := Scalar.cmpi .ne v1473 c0_i32_939
  v1474

def k1_off739 (i : grid1.Coords) (v574 : BitVec 32) (v579 : BitVec 32) (k1_t185 : Fin (k1_t185_loop i v574 v579).trips) : Fin 2 → Nat :=
  let c256_i32_935 : BitVec 32 := 256#32
  let c0_i32_934 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let c1_i32_1197 : BitVec 32 := 1#32
  let arg13 : BitVec 32 := Scf.iv v1468 c1_i32_1197 k1_t185
  let v1828 : Index := Scalar.indexCast arg13
  let c0_1207 : Index := 0#32
  ![v1828.toNat, 0]
def k1_off740 (i : grid1.Coords) (v574 : BitVec 32) (v579 : BitVec 32) (k1_t185 : Fin (k1_t185_loop i v574 v579).trips) : Fin 2 → Nat :=
  let c256_i32_935 : BitVec 32 := 256#32
  let c0_i32_934 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let c1_i32_1197 : BitVec 32 := 1#32
  let arg13 : BitVec 32 := Scf.iv v1468 c1_i32_1197 k1_t185
  let v1832 : Index := Scalar.indexCast arg13
  let c16_1208 : Index := 16#32
  ![v1832.toNat, 16]
def k1_off741 (i : grid1.Coords) (v574 : BitVec 32) (v579 : BitVec 32) (k1_t185 : Fin (k1_t185_loop i v574 v579).trips) : Fin 2 → Nat :=
  let c256_i32_935 : BitVec 32 := 256#32
  let c0_i32_934 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let c1_i32_1197 : BitVec 32 := 1#32
  let arg13 : BitVec 32 := Scf.iv v1468 c1_i32_1197 k1_t185
  let v1836 : Index := Scalar.indexCast arg13
  let c32_1209 : Index := 32#32
  ![v1836.toNat, 32]
def k1_off742 (i : grid1.Coords) (v574 : BitVec 32) (v579 : BitVec 32) (k1_t185 : Fin (k1_t185_loop i v574 v579).trips) : Fin 2 → Nat :=
  let c256_i32_935 : BitVec 32 := 256#32
  let c0_i32_934 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let c1_i32_1197 : BitVec 32 := 1#32
  let arg13 : BitVec 32 := Scf.iv v1468 c1_i32_1197 k1_t185
  let v1840 : Index := Scalar.indexCast arg13
  let c48_1210 : Index := 48#32
  ![v1840.toNat, 48]
@[reducible] def k1_t186_loop (i : grid1.Coords) (v574 : BitVec 32) (v579 : BitVec 32) : Scf.Loop 32 :=
  let c256_i32_935 : BitVec 32 := 256#32
  let c0_i32_934 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let c256_i32_938 : BitVec 32 := 256#32
  let c0_i32_937 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c512_i32_936 : BitVec 32 := 512#32
  let v1469 : BitVec 32 := Scalar.subi v582 c512_i32_936
  let v1470 : BitVec 32 := Scalar.maxsi c0_i32_937 v1469
  let v1471 : BitVec 32 := Scalar.minsi c256_i32_938 v1470
  let v1805 : BitVec 32 := Scalar.subi v1471 v1468
  let c1_i32_1196 : BitVec 32 := 1#32
  let v1807 : BitVec 32 := Scalar.divsi v1805 c1_i32_1196
  let v1808 : BitVec 32 := Scalar.muli v1807 c1_i32_1196
  let v1809 : BitVec 32 := Scalar.addi v1468 v1808
  let v1806 : BitVec 32 := Scalar.addi v1468 v1805
  let c1_i32_1198 : BitVec 32 := 1#32
  ⟨v1809, v1806, c1_i32_1198⟩
def k1_off743 (i : grid1.Coords) (v574 : BitVec 32) (v579 : BitVec 32) (k1_t186 : Fin (k1_t186_loop i v574 v579).trips) : Fin 2 → Nat :=
  let c256_i32_935 : BitVec 32 := 256#32
  let c0_i32_934 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let c256_i32_938 : BitVec 32 := 256#32
  let c0_i32_937 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c512_i32_936 : BitVec 32 := 512#32
  let v1469 : BitVec 32 := Scalar.subi v582 c512_i32_936
  let v1470 : BitVec 32 := Scalar.maxsi c0_i32_937 v1469
  let v1471 : BitVec 32 := Scalar.minsi c256_i32_938 v1470
  let v1805 : BitVec 32 := Scalar.subi v1471 v1468
  let c1_i32_1196 : BitVec 32 := 1#32
  let v1807 : BitVec 32 := Scalar.divsi v1805 c1_i32_1196
  let v1808 : BitVec 32 := Scalar.muli v1807 c1_i32_1196
  let v1809 : BitVec 32 := Scalar.addi v1468 v1808
  let c1_i32_1198 : BitVec 32 := 1#32
  let arg13 : BitVec 32 := Scf.iv v1809 c1_i32_1198 k1_t186
  let v1828 : Index := Scalar.indexCast arg13
  let c0_1207 : Index := 0#32
  ![v1828.toNat, 0]
def k1_off744 (i : grid1.Coords) (v574 : BitVec 32) (v579 : BitVec 32) (k1_t186 : Fin (k1_t186_loop i v574 v579).trips) : Fin 2 → Nat :=
  let c256_i32_935 : BitVec 32 := 256#32
  let c0_i32_934 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let c256_i32_938 : BitVec 32 := 256#32
  let c0_i32_937 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c512_i32_936 : BitVec 32 := 512#32
  let v1469 : BitVec 32 := Scalar.subi v582 c512_i32_936
  let v1470 : BitVec 32 := Scalar.maxsi c0_i32_937 v1469
  let v1471 : BitVec 32 := Scalar.minsi c256_i32_938 v1470
  let v1805 : BitVec 32 := Scalar.subi v1471 v1468
  let c1_i32_1196 : BitVec 32 := 1#32
  let v1807 : BitVec 32 := Scalar.divsi v1805 c1_i32_1196
  let v1808 : BitVec 32 := Scalar.muli v1807 c1_i32_1196
  let v1809 : BitVec 32 := Scalar.addi v1468 v1808
  let c1_i32_1198 : BitVec 32 := 1#32
  let arg13 : BitVec 32 := Scf.iv v1809 c1_i32_1198 k1_t186
  let v1832 : Index := Scalar.indexCast arg13
  let c16_1208 : Index := 16#32
  ![v1832.toNat, 16]
def k1_off745 (i : grid1.Coords) (v574 : BitVec 32) (v579 : BitVec 32) (k1_t186 : Fin (k1_t186_loop i v574 v579).trips) : Fin 2 → Nat :=
  let c256_i32_935 : BitVec 32 := 256#32
  let c0_i32_934 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let c256_i32_938 : BitVec 32 := 256#32
  let c0_i32_937 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c512_i32_936 : BitVec 32 := 512#32
  let v1469 : BitVec 32 := Scalar.subi v582 c512_i32_936
  let v1470 : BitVec 32 := Scalar.maxsi c0_i32_937 v1469
  let v1471 : BitVec 32 := Scalar.minsi c256_i32_938 v1470
  let v1805 : BitVec 32 := Scalar.subi v1471 v1468
  let c1_i32_1196 : BitVec 32 := 1#32
  let v1807 : BitVec 32 := Scalar.divsi v1805 c1_i32_1196
  let v1808 : BitVec 32 := Scalar.muli v1807 c1_i32_1196
  let v1809 : BitVec 32 := Scalar.addi v1468 v1808
  let c1_i32_1198 : BitVec 32 := 1#32
  let arg13 : BitVec 32 := Scf.iv v1809 c1_i32_1198 k1_t186
  let v1836 : Index := Scalar.indexCast arg13
  let c32_1209 : Index := 32#32
  ![v1836.toNat, 32]
def k1_off746 (i : grid1.Coords) (v574 : BitVec 32) (v579 : BitVec 32) (k1_t186 : Fin (k1_t186_loop i v574 v579).trips) : Fin 2 → Nat :=
  let c256_i32_935 : BitVec 32 := 256#32
  let c0_i32_934 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c512_i32_933 : BitVec 32 := 512#32
  let v1466 : BitVec 32 := Scalar.subi v577 c512_i32_933
  let v1467 : BitVec 32 := Scalar.maxsi c0_i32_934 v1466
  let v1468 : BitVec 32 := Scalar.minsi c256_i32_935 v1467
  let c256_i32_938 : BitVec 32 := 256#32
  let c0_i32_937 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c512_i32_936 : BitVec 32 := 512#32
  let v1469 : BitVec 32 := Scalar.subi v582 c512_i32_936
  let v1470 : BitVec 32 := Scalar.maxsi c0_i32_937 v1469
  let v1471 : BitVec 32 := Scalar.minsi c256_i32_938 v1470
  let v1805 : BitVec 32 := Scalar.subi v1471 v1468
  let c1_i32_1196 : BitVec 32 := 1#32
  let v1807 : BitVec 32 := Scalar.divsi v1805 c1_i32_1196
  let v1808 : BitVec 32 := Scalar.muli v1807 c1_i32_1196
  let v1809 : BitVec 32 := Scalar.addi v1468 v1808
  let c1_i32_1198 : BitVec 32 := 1#32
  let arg13 : BitVec 32 := Scf.iv v1809 c1_i32_1198 k1_t186
  let v1840 : Index := Scalar.indexCast arg13
  let c48_1210 : Index := 48#32
  ![v1840.toNat, 48]
@[reducible] def k1_t187_loop (i : grid1.Coords) (v584 : BitVec 32) (v590 : BitVec 32) : Scf.Loop 32 :=
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let c256_i32_945 : BitVec 32 := 256#32
  let c0_i32_944 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c512_i32_943 : BitVec 32 := 512#32
  let v1478 : BitVec 32 := Scalar.subi v594 c512_i32_943
  let v1479 : BitVec 32 := Scalar.maxsi c0_i32_944 v1478
  let v1480 : BitVec 32 := Scalar.minsi c256_i32_945 v1479
  let v1805 : BitVec 32 := Scalar.subi v1480 v1477
  let c1_i32_1196 : BitVec 32 := 1#32
  let v1807 : BitVec 32 := Scalar.divsi v1805 c1_i32_1196
  let v1808 : BitVec 32 := Scalar.muli v1807 c1_i32_1196
  let v1809 : BitVec 32 := Scalar.addi v1477 v1808
  let c1_i32_1197 : BitVec 32 := 1#32
  ⟨v1477, v1809, c1_i32_1197⟩
def k1_cond94 (i : grid1.Coords) (v584 : BitVec 32) (v590 : BitVec 32) : BitVec 1 :=
  let c256_i32_945 : BitVec 32 := 256#32
  let c0_i32_944 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v592 : BitVec 32 := Scalar.subi v591 v3
  let v593 : BitVec 32 := Scalar.maxsi c0_i32_259 v592
  let v594 : BitVec 32 := Scalar.minsi c1024_i32_260 v593
  let c512_i32_943 : BitVec 32 := 512#32
  let v1478 : BitVec 32 := Scalar.subi v594 c512_i32_943
  let v1479 : BitVec 32 := Scalar.maxsi c0_i32_944 v1478
  let v1480 : BitVec 32 := Scalar.minsi c256_i32_945 v1479
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let v1481 : BitVec 1 := Scalar.cmpi .sgt v1480 v1477
  let v1482 : BitVec 32 := Scalar.extui v1481
  let c0_i32_946 : BitVec 32 := 0#32
  let v1483 : BitVec 1 := Scalar.cmpi .ne v1482 c0_i32_946
  v1483

def k1_off747 (i : grid1.Coords) (v584 : BitVec 32) (v590 : BitVec 32) (k1_t187 : Fin (k1_t187_loop i v584 v590).trips) : Fin 2 → Nat :=
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let c1_i32_1197 : BitVec 32 := 1#32
  let arg13 : BitVec 32 := Scf.iv v1477 c1_i32_1197 k1_t187
  let v1828 : Index := Scalar.indexCast arg13
  let c64 : Index := 64#32
  ![v1828.toNat, 64]
def k1_off748 (i : grid1.Coords) (v584 : BitVec 32) (v590 : BitVec 32) (k1_t187 : Fin (k1_t187_loop i v584 v590).trips) : Fin 2 → Nat :=
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let c1_i32_1197 : BitVec 32 := 1#32
  let arg13 : BitVec 32 := Scf.iv v1477 c1_i32_1197 k1_t187
  let v1832 : Index := Scalar.indexCast arg13
  let c80 : Index := 80#32
  ![v1832.toNat, 80]
def k1_off749 (i : grid1.Coords) (v584 : BitVec 32) (v590 : BitVec 32) (k1_t187 : Fin (k1_t187_loop i v584 v590).trips) : Fin 2 → Nat :=
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let c1_i32_1197 : BitVec 32 := 1#32
  let arg13 : BitVec 32 := Scf.iv v1477 c1_i32_1197 k1_t187
  let v1836 : Index := Scalar.indexCast arg13
  let c96 : Index := 96#32
  ![v1836.toNat, 96]
def k1_off750 (i : grid1.Coords) (v584 : BitVec 32) (v590 : BitVec 32) (k1_t187 : Fin (k1_t187_loop i v584 v590).trips) : Fin 2 → Nat :=
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let c1_i32_1197 : BitVec 32 := 1#32
  let arg13 : BitVec 32 := Scf.iv v1477 c1_i32_1197 k1_t187
  let v1840 : Index := Scalar.indexCast arg13
  let c112 : Index := 112#32
  ![v1840.toNat, 112]
@[reducible] def k1_t188_loop (i : grid1.Coords) (v584 : BitVec 32) (v590 : BitVec 32) : Scf.Loop 32 :=
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let c256_i32_945 : BitVec 32 := 256#32
  let c0_i32_944 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c512_i32_943 : BitVec 32 := 512#32
  let v1478 : BitVec 32 := Scalar.subi v594 c512_i32_943
  let v1479 : BitVec 32 := Scalar.maxsi c0_i32_944 v1478
  let v1480 : BitVec 32 := Scalar.minsi c256_i32_945 v1479
  let v1805 : BitVec 32 := Scalar.subi v1480 v1477
  let c1_i32_1196 : BitVec 32 := 1#32
  let v1807 : BitVec 32 := Scalar.divsi v1805 c1_i32_1196
  let v1808 : BitVec 32 := Scalar.muli v1807 c1_i32_1196
  let v1809 : BitVec 32 := Scalar.addi v1477 v1808
  let v1806 : BitVec 32 := Scalar.addi v1477 v1805
  let c1_i32_1198 : BitVec 32 := 1#32
  ⟨v1809, v1806, c1_i32_1198⟩

variable {F : FTy → Type} [FloatOps F]

def k1_off751 (i : grid1.Coords) (v584 : BitVec 32) (v590 : BitVec 32) (k1_t188 : Fin (k1_t188_loop i v584 v590).trips) : Fin 2 → Nat :=
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let c256_i32_945 : BitVec 32 := 256#32
  let c0_i32_944 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c512_i32_943 : BitVec 32 := 512#32
  let v1478 : BitVec 32 := Scalar.subi v594 c512_i32_943
  let v1479 : BitVec 32 := Scalar.maxsi c0_i32_944 v1478
  let v1480 : BitVec 32 := Scalar.minsi c256_i32_945 v1479
  let v1805 : BitVec 32 := Scalar.subi v1480 v1477
  let c1_i32_1196 : BitVec 32 := 1#32
  let v1807 : BitVec 32 := Scalar.divsi v1805 c1_i32_1196
  let v1808 : BitVec 32 := Scalar.muli v1807 c1_i32_1196
  let v1809 : BitVec 32 := Scalar.addi v1477 v1808
  let c1_i32_1198 : BitVec 32 := 1#32
  let arg13 : BitVec 32 := Scf.iv v1809 c1_i32_1198 k1_t188
  let v1828 : Index := Scalar.indexCast arg13
  let c64 : Index := 64#32
  ![v1828.toNat, 64]
def k1_off752 (i : grid1.Coords) (v584 : BitVec 32) (v590 : BitVec 32) (k1_t188 : Fin (k1_t188_loop i v584 v590).trips) : Fin 2 → Nat :=
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let c256_i32_945 : BitVec 32 := 256#32
  let c0_i32_944 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c512_i32_943 : BitVec 32 := 512#32
  let v1478 : BitVec 32 := Scalar.subi v594 c512_i32_943
  let v1479 : BitVec 32 := Scalar.maxsi c0_i32_944 v1478
  let v1480 : BitVec 32 := Scalar.minsi c256_i32_945 v1479
  let v1805 : BitVec 32 := Scalar.subi v1480 v1477
  let c1_i32_1196 : BitVec 32 := 1#32
  let v1807 : BitVec 32 := Scalar.divsi v1805 c1_i32_1196
  let v1808 : BitVec 32 := Scalar.muli v1807 c1_i32_1196
  let v1809 : BitVec 32 := Scalar.addi v1477 v1808
  let c1_i32_1198 : BitVec 32 := 1#32
  let arg13 : BitVec 32 := Scf.iv v1809 c1_i32_1198 k1_t188
  let v1832 : Index := Scalar.indexCast arg13
  let c80 : Index := 80#32
  ![v1832.toNat, 80]
def k1_off753 (i : grid1.Coords) (v584 : BitVec 32) (v590 : BitVec 32) (k1_t188 : Fin (k1_t188_loop i v584 v590).trips) : Fin 2 → Nat :=
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let c256_i32_945 : BitVec 32 := 256#32
  let c0_i32_944 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c512_i32_943 : BitVec 32 := 512#32
  let v1478 : BitVec 32 := Scalar.subi v594 c512_i32_943
  let v1479 : BitVec 32 := Scalar.maxsi c0_i32_944 v1478
  let v1480 : BitVec 32 := Scalar.minsi c256_i32_945 v1479
  let v1805 : BitVec 32 := Scalar.subi v1480 v1477
  let c1_i32_1196 : BitVec 32 := 1#32
  let v1807 : BitVec 32 := Scalar.divsi v1805 c1_i32_1196
  let v1808 : BitVec 32 := Scalar.muli v1807 c1_i32_1196
  let v1809 : BitVec 32 := Scalar.addi v1477 v1808
  let c1_i32_1198 : BitVec 32 := 1#32
  let arg13 : BitVec 32 := Scf.iv v1809 c1_i32_1198 k1_t188
  let v1836 : Index := Scalar.indexCast arg13
  let c96 : Index := 96#32
  ![v1836.toNat, 96]
def k1_off754 (i : grid1.Coords) (v584 : BitVec 32) (v590 : BitVec 32) (k1_t188 : Fin (k1_t188_loop i v584 v590).trips) : Fin 2 → Nat :=
  let c256_i32_942 : BitVec 32 := 256#32
  let c0_i32_941 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c512_i32_940 : BitVec 32 := 512#32
  let v1475 : BitVec 32 := Scalar.subi v588 c512_i32_940
  let v1476 : BitVec 32 := Scalar.maxsi c0_i32_941 v1475
  let v1477 : BitVec 32 := Scalar.minsi c256_i32_942 v1476
  let c256_i32_945 : BitVec 32 := 256#32
  let c0_i32_944 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c512_i32_943 : BitVec 32 := 512#32
  let v1478 : BitVec 32 := Scalar.subi v594 c512_i32_943
  let v1479 : BitVec 32 := Scalar.maxsi c0_i32_944 v1478
  let v1480 : BitVec 32 := Scalar.minsi c256_i32_945 v1479
  let v1805 : BitVec 32 := Scalar.subi v1480 v1477
  let c1_i32_1196 : BitVec 32 := 1#32
  let v1807 : BitVec 32 := Scalar.divsi v1805 c1_i32_1196
  let v1808 : BitVec 32 := Scalar.muli v1807 c1_i32_1196
  let v1809 : BitVec 32 := Scalar.addi v1477 v1808
  let c1_i32_1198 : BitVec 32 := 1#32
  let arg13 : BitVec 32 := Scf.iv v1809 c1_i32_1198 k1_t188
  let v1840 : Index := Scalar.indexCast arg13
  let c112 : Index := 112#32
  ![v1840.toNat, 112]
@[reducible] def k1_t189_loop (i : grid1.Coords) (v596 : BitVec 32) (v601 : BitVec 32) : Scf.Loop 32 :=
  let c256_i32_949 : BitVec 32 := 256#32
  let c0_i32_948 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let c256_i32_952 : BitVec 32 := 256#32
  let c0_i32_951 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c512_i32_950 : BitVec 32 := 512#32
  let v1487 : BitVec 32 := Scalar.subi v604 c512_i32_950
  let v1488 : BitVec 32 := Scalar.maxsi c0_i32_951 v1487
  let v1489 : BitVec 32 := Scalar.minsi c256_i32_952 v1488
  let v1805 : BitVec 32 := Scalar.subi v1489 v1486
  let c1_i32_1196 : BitVec 32 := 1#32
  let v1807 : BitVec 32 := Scalar.divsi v1805 c1_i32_1196
  let v1808 : BitVec 32 := Scalar.muli v1807 c1_i32_1196
  let v1809 : BitVec 32 := Scalar.addi v1486 v1808
  let c1_i32_1197 : BitVec 32 := 1#32
  ⟨v1486, v1809, c1_i32_1197⟩
def k1_cond95 (i : grid1.Coords) (v596 : BitVec 32) (v601 : BitVec 32) : BitVec 1 :=
  let c256_i32_952 : BitVec 32 := 256#32
  let c0_i32_951 : BitVec 32 := 0#32
  let c1024_i32_264 : BitVec 32 := 1024#32
  let c0_i32_263 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v602 : BitVec 32 := Scalar.subi v601 v3
  let v603 : BitVec 32 := Scalar.maxsi c0_i32_263 v602
  let v604 : BitVec 32 := Scalar.minsi c1024_i32_264 v603
  let c512_i32_950 : BitVec 32 := 512#32
  let v1487 : BitVec 32 := Scalar.subi v604 c512_i32_950
  let v1488 : BitVec 32 := Scalar.maxsi c0_i32_951 v1487
  let v1489 : BitVec 32 := Scalar.minsi c256_i32_952 v1488
  let c256_i32_949 : BitVec 32 := 256#32
  let c0_i32_948 : BitVec 32 := 0#32
  let c1024_i32_262 : BitVec 32 := 1024#32
  let c0_i32_261 : BitVec 32 := 0#32
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let v1490 : BitVec 1 := Scalar.cmpi .sgt v1489 v1486
  let v1491 : BitVec 32 := Scalar.extui v1490
  let c0_i32_953 : BitVec 32 := 0#32
  let v1492 : BitVec 1 := Scalar.cmpi .ne v1491 c0_i32_953
  v1492

def k1_off755 (i : grid1.Coords) (v596 : BitVec 32) (v601 : BitVec 32) (k1_t189 : Fin (k1_t189_loop i v596 v601).trips) : Fin 2 → Nat :=
  let c256_i32_949 : BitVec 32 := 256#32
  let c0_i32_948 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let c1_i32_1197 : BitVec 32 := 1#32
  let arg13 : BitVec 32 := Scf.iv v1486 c1_i32_1197 k1_t189
  let v1828 : Index := Scalar.indexCast arg13
  let c0_1207 : Index := 0#32
  ![v1828.toNat, 0]
def k1_off756 (i : grid1.Coords) (v596 : BitVec 32) (v601 : BitVec 32) (k1_t189 : Fin (k1_t189_loop i v596 v601).trips) : Fin 2 → Nat :=
  let c256_i32_949 : BitVec 32 := 256#32
  let c0_i32_948 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let c1_i32_1197 : BitVec 32 := 1#32
  let arg13 : BitVec 32 := Scf.iv v1486 c1_i32_1197 k1_t189
  let v1832 : Index := Scalar.indexCast arg13
  let c16_1208 : Index := 16#32
  ![v1832.toNat, 16]
def k1_off757 (i : grid1.Coords) (v596 : BitVec 32) (v601 : BitVec 32) (k1_t189 : Fin (k1_t189_loop i v596 v601).trips) : Fin 2 → Nat :=
  let c256_i32_949 : BitVec 32 := 256#32
  let c0_i32_948 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let c1_i32_1197 : BitVec 32 := 1#32
  let arg13 : BitVec 32 := Scf.iv v1486 c1_i32_1197 k1_t189
  let v1836 : Index := Scalar.indexCast arg13
  let c32_1209 : Index := 32#32
  ![v1836.toNat, 32]
def k1_off758 (i : grid1.Coords) (v596 : BitVec 32) (v601 : BitVec 32) (k1_t189 : Fin (k1_t189_loop i v596 v601).trips) : Fin 2 → Nat :=
  let c256_i32_949 : BitVec 32 := 256#32
  let c0_i32_948 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let c1_i32_1197 : BitVec 32 := 1#32
  let arg13 : BitVec 32 := Scf.iv v1486 c1_i32_1197 k1_t189
  let v1840 : Index := Scalar.indexCast arg13
  let c48_1210 : Index := 48#32
  ![v1840.toNat, 48]
@[reducible] def k1_t190_loop (i : grid1.Coords) (v596 : BitVec 32) (v601 : BitVec 32) : Scf.Loop 32 :=
  let c256_i32_949 : BitVec 32 := 256#32
  let c0_i32_948 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let c256_i32_952 : BitVec 32 := 256#32
  let c0_i32_951 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c512_i32_950 : BitVec 32 := 512#32
  let v1487 : BitVec 32 := Scalar.subi v604 c512_i32_950
  let v1488 : BitVec 32 := Scalar.maxsi c0_i32_951 v1487
  let v1489 : BitVec 32 := Scalar.minsi c256_i32_952 v1488
  let v1805 : BitVec 32 := Scalar.subi v1489 v1486
  let c1_i32_1196 : BitVec 32 := 1#32
  let v1807 : BitVec 32 := Scalar.divsi v1805 c1_i32_1196
  let v1808 : BitVec 32 := Scalar.muli v1807 c1_i32_1196
  let v1809 : BitVec 32 := Scalar.addi v1486 v1808
  let v1806 : BitVec 32 := Scalar.addi v1486 v1805
  let c1_i32_1198 : BitVec 32 := 1#32
  ⟨v1809, v1806, c1_i32_1198⟩
def k1_off759 (i : grid1.Coords) (v596 : BitVec 32) (v601 : BitVec 32) (k1_t190 : Fin (k1_t190_loop i v596 v601).trips) : Fin 2 → Nat :=
  let c256_i32_949 : BitVec 32 := 256#32
  let c0_i32_948 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let c256_i32_952 : BitVec 32 := 256#32
  let c0_i32_951 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c512_i32_950 : BitVec 32 := 512#32
  let v1487 : BitVec 32 := Scalar.subi v604 c512_i32_950
  let v1488 : BitVec 32 := Scalar.maxsi c0_i32_951 v1487
  let v1489 : BitVec 32 := Scalar.minsi c256_i32_952 v1488
  let v1805 : BitVec 32 := Scalar.subi v1489 v1486
  let c1_i32_1196 : BitVec 32 := 1#32
  let v1807 : BitVec 32 := Scalar.divsi v1805 c1_i32_1196
  let v1808 : BitVec 32 := Scalar.muli v1807 c1_i32_1196
  let v1809 : BitVec 32 := Scalar.addi v1486 v1808
  let c1_i32_1198 : BitVec 32 := 1#32
  let arg13 : BitVec 32 := Scf.iv v1809 c1_i32_1198 k1_t190
  let v1828 : Index := Scalar.indexCast arg13
  let c0_1207 : Index := 0#32
  ![v1828.toNat, 0]
def k1_off760 (i : grid1.Coords) (v596 : BitVec 32) (v601 : BitVec 32) (k1_t190 : Fin (k1_t190_loop i v596 v601).trips) : Fin 2 → Nat :=
  let c256_i32_949 : BitVec 32 := 256#32
  let c0_i32_948 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let c256_i32_952 : BitVec 32 := 256#32
  let c0_i32_951 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c512_i32_950 : BitVec 32 := 512#32
  let v1487 : BitVec 32 := Scalar.subi v604 c512_i32_950
  let v1488 : BitVec 32 := Scalar.maxsi c0_i32_951 v1487
  let v1489 : BitVec 32 := Scalar.minsi c256_i32_952 v1488
  let v1805 : BitVec 32 := Scalar.subi v1489 v1486
  let c1_i32_1196 : BitVec 32 := 1#32
  let v1807 : BitVec 32 := Scalar.divsi v1805 c1_i32_1196
  let v1808 : BitVec 32 := Scalar.muli v1807 c1_i32_1196
  let v1809 : BitVec 32 := Scalar.addi v1486 v1808
  let c1_i32_1198 : BitVec 32 := 1#32
  let arg13 : BitVec 32 := Scf.iv v1809 c1_i32_1198 k1_t190
  let v1832 : Index := Scalar.indexCast arg13
  let c16_1208 : Index := 16#32
  ![v1832.toNat, 16]
def k1_off761 (i : grid1.Coords) (v596 : BitVec 32) (v601 : BitVec 32) (k1_t190 : Fin (k1_t190_loop i v596 v601).trips) : Fin 2 → Nat :=
  let c256_i32_949 : BitVec 32 := 256#32
  let c0_i32_948 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let c256_i32_952 : BitVec 32 := 256#32
  let c0_i32_951 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c512_i32_950 : BitVec 32 := 512#32
  let v1487 : BitVec 32 := Scalar.subi v604 c512_i32_950
  let v1488 : BitVec 32 := Scalar.maxsi c0_i32_951 v1487
  let v1489 : BitVec 32 := Scalar.minsi c256_i32_952 v1488
  let v1805 : BitVec 32 := Scalar.subi v1489 v1486
  let c1_i32_1196 : BitVec 32 := 1#32
  let v1807 : BitVec 32 := Scalar.divsi v1805 c1_i32_1196
  let v1808 : BitVec 32 := Scalar.muli v1807 c1_i32_1196
  let v1809 : BitVec 32 := Scalar.addi v1486 v1808
  let c1_i32_1198 : BitVec 32 := 1#32
  let arg13 : BitVec 32 := Scf.iv v1809 c1_i32_1198 k1_t190
  let v1836 : Index := Scalar.indexCast arg13
  let c32_1209 : Index := 32#32
  ![v1836.toNat, 32]
def k1_off762 (i : grid1.Coords) (v596 : BitVec 32) (v601 : BitVec 32) (k1_t190 : Fin (k1_t190_loop i v596 v601).trips) : Fin 2 → Nat :=
  let c256_i32_949 : BitVec 32 := 256#32
  let c0_i32_948 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c512_i32_947 : BitVec 32 := 512#32
  let v1484 : BitVec 32 := Scalar.subi v599 c512_i32_947
  let v1485 : BitVec 32 := Scalar.maxsi c0_i32_948 v1484
  let v1486 : BitVec 32 := Scalar.minsi c256_i32_949 v1485
  let c256_i32_952 : BitVec 32 := 256#32
  let c0_i32_951 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c512_i32_950 : BitVec 32 := 512#32
  let v1487 : BitVec 32 := Scalar.subi v604 c512_i32_950
  let v1488 : BitVec 32 := Scalar.maxsi c0_i32_951 v1487
  let v1489 : BitVec 32 := Scalar.minsi c256_i32_952 v1488
  let v1805 : BitVec 32 := Scalar.subi v1489 v1486
  let c1_i32_1196 : BitVec 32 := 1#32
  let v1807 : BitVec 32 := Scalar.divsi v1805 c1_i32_1196
  let v1808 : BitVec 32 := Scalar.muli v1807 c1_i32_1196
  let v1809 : BitVec 32 := Scalar.addi v1486 v1808
  let c1_i32_1198 : BitVec 32 := 1#32
  let arg13 : BitVec 32 := Scf.iv v1809 c1_i32_1198 k1_t190
  let v1840 : Index := Scalar.indexCast arg13
  let c48_1210 : Index := 48#32
  ![v1840.toNat, 48]
@[reducible] def k1_t191_loop (i : grid1.Coords) (v606 : BitVec 32) (v612 : BitVec 32) : Scf.Loop 32 :=
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let c256_i32_959 : BitVec 32 := 256#32
  let c0_i32_958 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c512_i32_957 : BitVec 32 := 512#32
  let v1496 : BitVec 32 := Scalar.subi v616 c512_i32_957
  let v1497 : BitVec 32 := Scalar.maxsi c0_i32_958 v1496
  let v1498 : BitVec 32 := Scalar.minsi c256_i32_959 v1497
  let v1805 : BitVec 32 := Scalar.subi v1498 v1495
  let c1_i32_1196 : BitVec 32 := 1#32
  let v1807 : BitVec 32 := Scalar.divsi v1805 c1_i32_1196
  let v1808 : BitVec 32 := Scalar.muli v1807 c1_i32_1196
  let v1809 : BitVec 32 := Scalar.addi v1495 v1808
  let c1_i32_1197 : BitVec 32 := 1#32
  ⟨v1495, v1809, c1_i32_1197⟩
def k1_cond96 (i : grid1.Coords) (v606 : BitVec 32) (v612 : BitVec 32) : BitVec 1 :=
  let c256_i32_959 : BitVec 32 := 256#32
  let c0_i32_958 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v614 : BitVec 32 := Scalar.subi v613 v3
  let v615 : BitVec 32 := Scalar.maxsi c0_i32_269 v614
  let v616 : BitVec 32 := Scalar.minsi c1024_i32_270 v615
  let c512_i32_957 : BitVec 32 := 512#32
  let v1496 : BitVec 32 := Scalar.subi v616 c512_i32_957
  let v1497 : BitVec 32 := Scalar.maxsi c0_i32_958 v1496
  let v1498 : BitVec 32 := Scalar.minsi c256_i32_959 v1497
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let v1499 : BitVec 1 := Scalar.cmpi .sgt v1498 v1495
  let v1500 : BitVec 32 := Scalar.extui v1499
  let c0_i32_960 : BitVec 32 := 0#32
  let v1501 : BitVec 1 := Scalar.cmpi .ne v1500 c0_i32_960
  v1501

def k1_off763 (i : grid1.Coords) (v606 : BitVec 32) (v612 : BitVec 32) (k1_t191 : Fin (k1_t191_loop i v606 v612).trips) : Fin 2 → Nat :=
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let c1_i32_1197 : BitVec 32 := 1#32
  let arg13 : BitVec 32 := Scf.iv v1495 c1_i32_1197 k1_t191
  let v1828 : Index := Scalar.indexCast arg13
  let c64 : Index := 64#32
  ![v1828.toNat, 64]
def k1_off764 (i : grid1.Coords) (v606 : BitVec 32) (v612 : BitVec 32) (k1_t191 : Fin (k1_t191_loop i v606 v612).trips) : Fin 2 → Nat :=
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let c1_i32_1197 : BitVec 32 := 1#32
  let arg13 : BitVec 32 := Scf.iv v1495 c1_i32_1197 k1_t191
  let v1832 : Index := Scalar.indexCast arg13
  let c80 : Index := 80#32
  ![v1832.toNat, 80]
def k1_off765 (i : grid1.Coords) (v606 : BitVec 32) (v612 : BitVec 32) (k1_t191 : Fin (k1_t191_loop i v606 v612).trips) : Fin 2 → Nat :=
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let c1_i32_1197 : BitVec 32 := 1#32
  let arg13 : BitVec 32 := Scf.iv v1495 c1_i32_1197 k1_t191
  let v1836 : Index := Scalar.indexCast arg13
  let c96 : Index := 96#32
  ![v1836.toNat, 96]
def k1_off766 (i : grid1.Coords) (v606 : BitVec 32) (v612 : BitVec 32) (k1_t191 : Fin (k1_t191_loop i v606 v612).trips) : Fin 2 → Nat :=
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let c1_i32_1197 : BitVec 32 := 1#32
  let arg13 : BitVec 32 := Scf.iv v1495 c1_i32_1197 k1_t191
  let v1840 : Index := Scalar.indexCast arg13
  let c112 : Index := 112#32
  ![v1840.toNat, 112]
@[reducible] def k1_t192_loop (i : grid1.Coords) (v606 : BitVec 32) (v612 : BitVec 32) : Scf.Loop 32 :=
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let c256_i32_959 : BitVec 32 := 256#32
  let c0_i32_958 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c512_i32_957 : BitVec 32 := 512#32
  let v1496 : BitVec 32 := Scalar.subi v616 c512_i32_957
  let v1497 : BitVec 32 := Scalar.maxsi c0_i32_958 v1496
  let v1498 : BitVec 32 := Scalar.minsi c256_i32_959 v1497
  let v1805 : BitVec 32 := Scalar.subi v1498 v1495
  let c1_i32_1196 : BitVec 32 := 1#32
  let v1807 : BitVec 32 := Scalar.divsi v1805 c1_i32_1196
  let v1808 : BitVec 32 := Scalar.muli v1807 c1_i32_1196
  let v1809 : BitVec 32 := Scalar.addi v1495 v1808
  let v1806 : BitVec 32 := Scalar.addi v1495 v1805
  let c1_i32_1198 : BitVec 32 := 1#32
  ⟨v1809, v1806, c1_i32_1198⟩
def k1_off767 (i : grid1.Coords) (v606 : BitVec 32) (v612 : BitVec 32) (k1_t192 : Fin (k1_t192_loop i v606 v612).trips) : Fin 2 → Nat :=
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let c256_i32_959 : BitVec 32 := 256#32
  let c0_i32_958 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c512_i32_957 : BitVec 32 := 512#32
  let v1496 : BitVec 32 := Scalar.subi v616 c512_i32_957
  let v1497 : BitVec 32 := Scalar.maxsi c0_i32_958 v1496
  let v1498 : BitVec 32 := Scalar.minsi c256_i32_959 v1497
  let v1805 : BitVec 32 := Scalar.subi v1498 v1495
  let c1_i32_1196 : BitVec 32 := 1#32
  let v1807 : BitVec 32 := Scalar.divsi v1805 c1_i32_1196
  let v1808 : BitVec 32 := Scalar.muli v1807 c1_i32_1196
  let v1809 : BitVec 32 := Scalar.addi v1495 v1808
  let c1_i32_1198 : BitVec 32 := 1#32
  let arg13 : BitVec 32 := Scf.iv v1809 c1_i32_1198 k1_t192
  let v1828 : Index := Scalar.indexCast arg13
  let c64 : Index := 64#32
  ![v1828.toNat, 64]
def k1_off768 (i : grid1.Coords) (v606 : BitVec 32) (v612 : BitVec 32) (k1_t192 : Fin (k1_t192_loop i v606 v612).trips) : Fin 2 → Nat :=
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let c256_i32_959 : BitVec 32 := 256#32
  let c0_i32_958 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c512_i32_957 : BitVec 32 := 512#32
  let v1496 : BitVec 32 := Scalar.subi v616 c512_i32_957
  let v1497 : BitVec 32 := Scalar.maxsi c0_i32_958 v1496
  let v1498 : BitVec 32 := Scalar.minsi c256_i32_959 v1497
  let v1805 : BitVec 32 := Scalar.subi v1498 v1495
  let c1_i32_1196 : BitVec 32 := 1#32
  let v1807 : BitVec 32 := Scalar.divsi v1805 c1_i32_1196
  let v1808 : BitVec 32 := Scalar.muli v1807 c1_i32_1196
  let v1809 : BitVec 32 := Scalar.addi v1495 v1808
  let c1_i32_1198 : BitVec 32 := 1#32
  let arg13 : BitVec 32 := Scf.iv v1809 c1_i32_1198 k1_t192
  let v1832 : Index := Scalar.indexCast arg13
  let c80 : Index := 80#32
  ![v1832.toNat, 80]
def k1_off769 (i : grid1.Coords) (v606 : BitVec 32) (v612 : BitVec 32) (k1_t192 : Fin (k1_t192_loop i v606 v612).trips) : Fin 2 → Nat :=
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let c256_i32_959 : BitVec 32 := 256#32
  let c0_i32_958 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c512_i32_957 : BitVec 32 := 512#32
  let v1496 : BitVec 32 := Scalar.subi v616 c512_i32_957
  let v1497 : BitVec 32 := Scalar.maxsi c0_i32_958 v1496
  let v1498 : BitVec 32 := Scalar.minsi c256_i32_959 v1497
  let v1805 : BitVec 32 := Scalar.subi v1498 v1495
  let c1_i32_1196 : BitVec 32 := 1#32
  let v1807 : BitVec 32 := Scalar.divsi v1805 c1_i32_1196
  let v1808 : BitVec 32 := Scalar.muli v1807 c1_i32_1196
  let v1809 : BitVec 32 := Scalar.addi v1495 v1808
  let c1_i32_1198 : BitVec 32 := 1#32
  let arg13 : BitVec 32 := Scf.iv v1809 c1_i32_1198 k1_t192
  let v1836 : Index := Scalar.indexCast arg13
  let c96 : Index := 96#32
  ![v1836.toNat, 96]
def k1_off770 (i : grid1.Coords) (v606 : BitVec 32) (v612 : BitVec 32) (k1_t192 : Fin (k1_t192_loop i v606 v612).trips) : Fin 2 → Nat :=
  let c256_i32_956 : BitVec 32 := 256#32
  let c0_i32_955 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c512_i32_954 : BitVec 32 := 512#32
  let v1493 : BitVec 32 := Scalar.subi v610 c512_i32_954
  let v1494 : BitVec 32 := Scalar.maxsi c0_i32_955 v1493
  let v1495 : BitVec 32 := Scalar.minsi c256_i32_956 v1494
  let c256_i32_959 : BitVec 32 := 256#32
  let c0_i32_958 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c512_i32_957 : BitVec 32 := 512#32
  let v1496 : BitVec 32 := Scalar.subi v616 c512_i32_957
  let v1497 : BitVec 32 := Scalar.maxsi c0_i32_958 v1496
  let v1498 : BitVec 32 := Scalar.minsi c256_i32_959 v1497
  let v1805 : BitVec 32 := Scalar.subi v1498 v1495
  let c1_i32_1196 : BitVec 32 := 1#32
  let v1807 : BitVec 32 := Scalar.divsi v1805 c1_i32_1196
  let v1808 : BitVec 32 := Scalar.muli v1807 c1_i32_1196
  let v1809 : BitVec 32 := Scalar.addi v1495 v1808
  let c1_i32_1198 : BitVec 32 := 1#32
  let arg13 : BitVec 32 := Scf.iv v1809 c1_i32_1198 k1_t192
  let v1840 : Index := Scalar.indexCast arg13
  let c112 : Index := 112#32
  ![v1840.toNat, 112]
@[reducible] def k1_t193_loop (i : grid1.Coords) (v266 : BitVec 32) (v271 : BitVec 32) : Scf.Loop 32 :=
  let c256_i32_966 : BitVec 32 := 256#32
  let c0_i32_965 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let c256_i32_969 : BitVec 32 := 256#32
  let c0_i32_968 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c768_i32_967 : BitVec 32 := 768#32
  let v1508 : BitVec 32 := Scalar.subi v274 c768_i32_967
  let v1509 : BitVec 32 := Scalar.maxsi c0_i32_968 v1508
  let v1510 : BitVec 32 := Scalar.minsi c256_i32_969 v1509
  let v1805 : BitVec 32 := Scalar.subi v1510 v1507
  let c1_i32_1196 : BitVec 32 := 1#32
  let v1807 : BitVec 32 := Scalar.divsi v1805 c1_i32_1196
  let v1808 : BitVec 32 := Scalar.muli v1807 c1_i32_1196
  let v1809 : BitVec 32 := Scalar.addi v1507 v1808
  let c1_i32_1197 : BitVec 32 := 1#32
  ⟨v1507, v1809, c1_i32_1197⟩
def k1_cond97 (i : grid1.Coords) (v266 : BitVec 32) (v271 : BitVec 32) : BitVec 1 :=
  let c256_i32_969 : BitVec 32 := 256#32
  let c0_i32_968 : BitVec 32 := 0#32
  let c1024_i32_115 : BitVec 32 := 1024#32
  let c0_i32_114 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v272 : BitVec 32 := Scalar.subi v271 v3
  let v273 : BitVec 32 := Scalar.maxsi c0_i32_114 v272
  let v274 : BitVec 32 := Scalar.minsi c1024_i32_115 v273
  let c768_i32_967 : BitVec 32 := 768#32
  let v1508 : BitVec 32 := Scalar.subi v274 c768_i32_967
  let v1509 : BitVec 32 := Scalar.maxsi c0_i32_968 v1508
  let v1510 : BitVec 32 := Scalar.minsi c256_i32_969 v1509
  let c256_i32_966 : BitVec 32 := 256#32
  let c0_i32_965 : BitVec 32 := 0#32
  let c1024_i32_113 : BitVec 32 := 1024#32
  let c0_i32_112 : BitVec 32 := 0#32
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let v1511 : BitVec 1 := Scalar.cmpi .sgt v1510 v1507
  let v1512 : BitVec 32 := Scalar.extui v1511
  let c0_i32_970 : BitVec 32 := 0#32
  let v1513 : BitVec 1 := Scalar.cmpi .ne v1512 c0_i32_970
  v1513

def k1_off771 (i : grid1.Coords) (v266 : BitVec 32) (v271 : BitVec 32) (k1_t193 : Fin (k1_t193_loop i v266 v271).trips) : Fin 2 → Nat :=
  let c256_i32_966 : BitVec 32 := 256#32
  let c0_i32_965 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let c1_i32_1197 : BitVec 32 := 1#32
  let arg13 : BitVec 32 := Scf.iv v1507 c1_i32_1197 k1_t193
  let v1828 : Index := Scalar.indexCast arg13
  let c0_1207 : Index := 0#32
  ![v1828.toNat, 0]
def k1_off772 (i : grid1.Coords) (v266 : BitVec 32) (v271 : BitVec 32) (k1_t193 : Fin (k1_t193_loop i v266 v271).trips) : Fin 2 → Nat :=
  let c256_i32_966 : BitVec 32 := 256#32
  let c0_i32_965 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let c1_i32_1197 : BitVec 32 := 1#32
  let arg13 : BitVec 32 := Scf.iv v1507 c1_i32_1197 k1_t193
  let v1832 : Index := Scalar.indexCast arg13
  let c16_1208 : Index := 16#32
  ![v1832.toNat, 16]
def k1_off773 (i : grid1.Coords) (v266 : BitVec 32) (v271 : BitVec 32) (k1_t193 : Fin (k1_t193_loop i v266 v271).trips) : Fin 2 → Nat :=
  let c256_i32_966 : BitVec 32 := 256#32
  let c0_i32_965 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let c1_i32_1197 : BitVec 32 := 1#32
  let arg13 : BitVec 32 := Scf.iv v1507 c1_i32_1197 k1_t193
  let v1836 : Index := Scalar.indexCast arg13
  let c32_1209 : Index := 32#32
  ![v1836.toNat, 32]
def k1_off774 (i : grid1.Coords) (v266 : BitVec 32) (v271 : BitVec 32) (k1_t193 : Fin (k1_t193_loop i v266 v271).trips) : Fin 2 → Nat :=
  let c256_i32_966 : BitVec 32 := 256#32
  let c0_i32_965 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let c1_i32_1197 : BitVec 32 := 1#32
  let arg13 : BitVec 32 := Scf.iv v1507 c1_i32_1197 k1_t193
  let v1840 : Index := Scalar.indexCast arg13
  let c48_1210 : Index := 48#32
  ![v1840.toNat, 48]
@[reducible] def k1_t194_loop (i : grid1.Coords) (v266 : BitVec 32) (v271 : BitVec 32) : Scf.Loop 32 :=
  let c256_i32_966 : BitVec 32 := 256#32
  let c0_i32_965 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let c256_i32_969 : BitVec 32 := 256#32
  let c0_i32_968 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c768_i32_967 : BitVec 32 := 768#32
  let v1508 : BitVec 32 := Scalar.subi v274 c768_i32_967
  let v1509 : BitVec 32 := Scalar.maxsi c0_i32_968 v1508
  let v1510 : BitVec 32 := Scalar.minsi c256_i32_969 v1509
  let v1805 : BitVec 32 := Scalar.subi v1510 v1507
  let c1_i32_1196 : BitVec 32 := 1#32
  let v1807 : BitVec 32 := Scalar.divsi v1805 c1_i32_1196
  let v1808 : BitVec 32 := Scalar.muli v1807 c1_i32_1196
  let v1809 : BitVec 32 := Scalar.addi v1507 v1808
  let v1806 : BitVec 32 := Scalar.addi v1507 v1805
  let c1_i32_1198 : BitVec 32 := 1#32
  ⟨v1809, v1806, c1_i32_1198⟩
def k1_off775 (i : grid1.Coords) (v266 : BitVec 32) (v271 : BitVec 32) (k1_t194 : Fin (k1_t194_loop i v266 v271).trips) : Fin 2 → Nat :=
  let c256_i32_966 : BitVec 32 := 256#32
  let c0_i32_965 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let c256_i32_969 : BitVec 32 := 256#32
  let c0_i32_968 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c768_i32_967 : BitVec 32 := 768#32
  let v1508 : BitVec 32 := Scalar.subi v274 c768_i32_967
  let v1509 : BitVec 32 := Scalar.maxsi c0_i32_968 v1508
  let v1510 : BitVec 32 := Scalar.minsi c256_i32_969 v1509
  let v1805 : BitVec 32 := Scalar.subi v1510 v1507
  let c1_i32_1196 : BitVec 32 := 1#32
  let v1807 : BitVec 32 := Scalar.divsi v1805 c1_i32_1196
  let v1808 : BitVec 32 := Scalar.muli v1807 c1_i32_1196
  let v1809 : BitVec 32 := Scalar.addi v1507 v1808
  let c1_i32_1198 : BitVec 32 := 1#32
  let arg13 : BitVec 32 := Scf.iv v1809 c1_i32_1198 k1_t194
  let v1828 : Index := Scalar.indexCast arg13
  let c0_1207 : Index := 0#32
  ![v1828.toNat, 0]
def k1_off776 (i : grid1.Coords) (v266 : BitVec 32) (v271 : BitVec 32) (k1_t194 : Fin (k1_t194_loop i v266 v271).trips) : Fin 2 → Nat :=
  let c256_i32_966 : BitVec 32 := 256#32
  let c0_i32_965 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let c256_i32_969 : BitVec 32 := 256#32
  let c0_i32_968 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c768_i32_967 : BitVec 32 := 768#32
  let v1508 : BitVec 32 := Scalar.subi v274 c768_i32_967
  let v1509 : BitVec 32 := Scalar.maxsi c0_i32_968 v1508
  let v1510 : BitVec 32 := Scalar.minsi c256_i32_969 v1509
  let v1805 : BitVec 32 := Scalar.subi v1510 v1507
  let c1_i32_1196 : BitVec 32 := 1#32
  let v1807 : BitVec 32 := Scalar.divsi v1805 c1_i32_1196
  let v1808 : BitVec 32 := Scalar.muli v1807 c1_i32_1196
  let v1809 : BitVec 32 := Scalar.addi v1507 v1808
  let c1_i32_1198 : BitVec 32 := 1#32
  let arg13 : BitVec 32 := Scf.iv v1809 c1_i32_1198 k1_t194
  let v1832 : Index := Scalar.indexCast arg13
  let c16_1208 : Index := 16#32
  ![v1832.toNat, 16]
def k1_off777 (i : grid1.Coords) (v266 : BitVec 32) (v271 : BitVec 32) (k1_t194 : Fin (k1_t194_loop i v266 v271).trips) : Fin 2 → Nat :=
  let c256_i32_966 : BitVec 32 := 256#32
  let c0_i32_965 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let c256_i32_969 : BitVec 32 := 256#32
  let c0_i32_968 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c768_i32_967 : BitVec 32 := 768#32
  let v1508 : BitVec 32 := Scalar.subi v274 c768_i32_967
  let v1509 : BitVec 32 := Scalar.maxsi c0_i32_968 v1508
  let v1510 : BitVec 32 := Scalar.minsi c256_i32_969 v1509
  let v1805 : BitVec 32 := Scalar.subi v1510 v1507
  let c1_i32_1196 : BitVec 32 := 1#32
  let v1807 : BitVec 32 := Scalar.divsi v1805 c1_i32_1196
  let v1808 : BitVec 32 := Scalar.muli v1807 c1_i32_1196
  let v1809 : BitVec 32 := Scalar.addi v1507 v1808
  let c1_i32_1198 : BitVec 32 := 1#32
  let arg13 : BitVec 32 := Scf.iv v1809 c1_i32_1198 k1_t194
  let v1836 : Index := Scalar.indexCast arg13
  let c32_1209 : Index := 32#32
  ![v1836.toNat, 32]
def k1_off778 (i : grid1.Coords) (v266 : BitVec 32) (v271 : BitVec 32) (k1_t194 : Fin (k1_t194_loop i v266 v271).trips) : Fin 2 → Nat :=
  let c256_i32_966 : BitVec 32 := 256#32
  let c0_i32_965 : BitVec 32 := 0#32
  let c1024_i32_113 : BitVec 32 := 1024#32
  let c0_i32_112 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v267 : BitVec 32 := Scalar.subi v266 v3
  let v268 : BitVec 32 := Scalar.maxsi c0_i32_112 v267
  let v269 : BitVec 32 := Scalar.minsi c1024_i32_113 v268
  let c768_i32_964 : BitVec 32 := 768#32
  let v1505 : BitVec 32 := Scalar.subi v269 c768_i32_964
  let v1506 : BitVec 32 := Scalar.maxsi c0_i32_965 v1505
  let v1507 : BitVec 32 := Scalar.minsi c256_i32_966 v1506
  let c256_i32_969 : BitVec 32 := 256#32
  let c0_i32_968 : BitVec 32 := 0#32
  let c1024_i32_115 : BitVec 32 := 1024#32
  let c0_i32_114 : BitVec 32 := 0#32
  let v272 : BitVec 32 := Scalar.subi v271 v3
  let v273 : BitVec 32 := Scalar.maxsi c0_i32_114 v272
  let v274 : BitVec 32 := Scalar.minsi c1024_i32_115 v273
  let c768_i32_967 : BitVec 32 := 768#32
  let v1508 : BitVec 32 := Scalar.subi v274 c768_i32_967
  let v1509 : BitVec 32 := Scalar.maxsi c0_i32_968 v1508
  let v1510 : BitVec 32 := Scalar.minsi c256_i32_969 v1509
  let v1805 : BitVec 32 := Scalar.subi v1510 v1507
  let c1_i32_1196 : BitVec 32 := 1#32
  let v1807 : BitVec 32 := Scalar.divsi v1805 c1_i32_1196
  let v1808 : BitVec 32 := Scalar.muli v1807 c1_i32_1196
  let v1809 : BitVec 32 := Scalar.addi v1507 v1808
  let c1_i32_1198 : BitVec 32 := 1#32
  let arg13 : BitVec 32 := Scf.iv v1809 c1_i32_1198 k1_t194
  let v1840 : Index := Scalar.indexCast arg13
  let c48_1210 : Index := 48#32
  ![v1840.toNat, 48]

def k1_chk1_0 (i : grid1.Coords) (v266 : BitVec 32) (v271 : BitVec 32) : Prop :=
  (∀ (k1_h1 : k1_cond1 i v266 v271 = 1#1), (k1_t1_loop i v266 v271).OK) ∧
  (∀ k1_t1 : Fin (k1_t1_loop i v266 v271).trips, ∀ (k1_h1 : k1_cond1 i v266 v271 = 1#1), ∀ a, (k1_off2 i v266 v271 k1_t1) a + S1x16.size a ≤ S256x128.size a) ∧
  (∀ k1_t1 : Fin (k1_t1_loop i v266 v271).trips, ∀ (k1_h1 : k1_cond1 i v266 v271 = 1#1), ∀ a, (k1_off3 i v266 v271 k1_t1) a + S1x16.size a ≤ S256x128.size a) ∧
  (∀ k1_t1 : Fin (k1_t1_loop i v266 v271).trips, ∀ (k1_h1 : k1_cond1 i v266 v271 = 1#1), ∀ a, (k1_off4 i v266 v271 k1_t1) a + S1x16.size a ≤ S256x128.size a) ∧
  (∀ k1_t1 : Fin (k1_t1_loop i v266 v271).trips, ∀ (k1_h1 : k1_cond1 i v266 v271 = 1#1), ∀ a, (k1_off5 i v266 v271 k1_t1) a + S1x16.size a ≤ S256x128.size a) ∧
  (∀ (k1_h1 : k1_cond1 i v266 v271 = 1#1), (k1_t2_loop i v266 v271).OK) ∧
  (∀ k1_t2 : Fin (k1_t2_loop i v266 v271).trips, ∀ (k1_h1 : k1_cond1 i v266 v271 = 1#1), ∀ a, (k1_off6 i v266 v271 k1_t2) a + S1x16.size a ≤ S256x128.size a) ∧
  (∀ k1_t2 : Fin (k1_t2_loop i v266 v271).trips, ∀ (k1_h1 : k1_cond1 i v266 v271 = 1#1), ∀ a, (k1_off7 i v266 v271 k1_t2) a + S1x16.size a ≤ S256x128.size a) ∧
  (∀ k1_t2 : Fin (k1_t2_loop i v266 v271).trips, ∀ (k1_h1 : k1_cond1 i v266 v271 = 1#1), ∀ a, (k1_off8 i v266 v271 k1_t2) a + S1x16.size a ≤ S256x128.size a) ∧
  (∀ k1_t2 : Fin (k1_t2_loop i v266 v271).trips, ∀ (k1_h1 : k1_cond1 i v266 v271 = 1#1), ∀ a, (k1_off9 i v266 v271 k1_t2) a + S1x16.size a ≤ S256x128.size a) ∧
  (∀ (k1_h33 : k1_cond33 i v266 v271 = 1#1), (k1_t65_loop i v266 v271).OK) ∧
  (∀ k1_t65 : Fin (k1_t65_loop i v266 v271).trips, ∀ (k1_h33 : k1_cond33 i v266 v271 = 1#1), ∀ a, (k1_off259 i v266 v271 k1_t65) a + S1x16.size a ≤ S256x128.size a) ∧
  (∀ k1_t65 : Fin (k1_t65_loop i v266 v271).trips, ∀ (k1_h33 : k1_cond33 i v266 v271 = 1#1), ∀ a, (k1_off260 i v266 v271 k1_t65) a + S1x16.size a ≤ S256x128.size a) ∧
  (∀ k1_t65 : Fin (k1_t65_loop i v266 v271).trips, ∀ (k1_h33 : k1_cond33 i v266 v271 = 1#1), ∀ a, (k1_off261 i v266 v271 k1_t65) a + S1x16.size a ≤ S256x128.size a) ∧
  (∀ k1_t65 : Fin (k1_t65_loop i v266 v271).trips, ∀ (k1_h33 : k1_cond33 i v266 v271 = 1#1), ∀ a, (k1_off262 i v266 v271 k1_t65) a + S1x16.size a ≤ S256x128.size a) ∧
  (∀ (k1_h33 : k1_cond33 i v266 v271 = 1#1), (k1_t66_loop i v266 v271).OK) ∧
  (∀ k1_t66 : Fin (k1_t66_loop i v266 v271).trips, ∀ (k1_h33 : k1_cond33 i v266 v271 = 1#1), ∀ a, (k1_off263 i v266 v271 k1_t66) a + S1x16.size a ≤ S256x128.size a) ∧
  (∀ k1_t66 : Fin (k1_t66_loop i v266 v271).trips, ∀ (k1_h33 : k1_cond33 i v266 v271 = 1#1), ∀ a, (k1_off264 i v266 v271 k1_t66) a + S1x16.size a ≤ S256x128.size a) ∧
  (∀ k1_t66 : Fin (k1_t66_loop i v266 v271).trips, ∀ (k1_h33 : k1_cond33 i v266 v271 = 1#1), ∀ a, (k1_off265 i v266 v271 k1_t66) a + S1x16.size a ≤ S256x128.size a) ∧
  (∀ k1_t66 : Fin (k1_t66_loop i v266 v271).trips, ∀ (k1_h33 : k1_cond33 i v266 v271 = 1#1), ∀ a, (k1_off266 i v266 v271 k1_t66) a + S1x16.size a ≤ S256x128.size a) ∧
  (∀ (k1_h65 : k1_cond65 i v266 v271 = 1#1), (k1_t129_loop i v266 v271).OK) ∧
  (∀ k1_t129 : Fin (k1_t129_loop i v266 v271).trips, ∀ (k1_h65 : k1_cond65 i v266 v271 = 1#1), ∀ a, (k1_off515 i v266 v271 k1_t129) a + S1x16.size a ≤ S256x128.size a) ∧
  (∀ k1_t129 : Fin (k1_t129_loop i v266 v271).trips, ∀ (k1_h65 : k1_cond65 i v266 v271 = 1#1), ∀ a, (k1_off516 i v266 v271 k1_t129) a + S1x16.size a ≤ S256x128.size a) ∧
  (∀ k1_t129 : Fin (k1_t129_loop i v266 v271).trips, ∀ (k1_h65 : k1_cond65 i v266 v271 = 1#1), ∀ a, (k1_off517 i v266 v271 k1_t129) a + S1x16.size a ≤ S256x128.size a) ∧
  (∀ k1_t129 : Fin (k1_t129_loop i v266 v271).trips, ∀ (k1_h65 : k1_cond65 i v266 v271 = 1#1), ∀ a, (k1_off518 i v266 v271 k1_t129) a + S1x16.size a ≤ S256x128.size a) ∧
  (∀ (k1_h65 : k1_cond65 i v266 v271 = 1#1), (k1_t130_loop i v266 v271).OK) ∧
  (∀ k1_t130 : Fin (k1_t130_loop i v266 v271).trips, ∀ (k1_h65 : k1_cond65 i v266 v271 = 1#1), ∀ a, (k1_off519 i v266 v271 k1_t130) a + S1x16.size a ≤ S256x128.size a) ∧
  (∀ k1_t130 : Fin (k1_t130_loop i v266 v271).trips, ∀ (k1_h65 : k1_cond65 i v266 v271 = 1#1), ∀ a, (k1_off520 i v266 v271 k1_t130) a + S1x16.size a ≤ S256x128.size a) ∧
  (∀ k1_t130 : Fin (k1_t130_loop i v266 v271).trips, ∀ (k1_h65 : k1_cond65 i v266 v271 = 1#1), ∀ a, (k1_off521 i v266 v271 k1_t130) a + S1x16.size a ≤ S256x128.size a) ∧
  (∀ k1_t130 : Fin (k1_t130_loop i v266 v271).trips, ∀ (k1_h65 : k1_cond65 i v266 v271 = 1#1), ∀ a, (k1_off522 i v266 v271 k1_t130) a + S1x16.size a ≤ S256x128.size a) ∧
  (∀ (k1_h97 : k1_cond97 i v266 v271 = 1#1), (k1_t193_loop i v266 v271).OK) ∧
  (∀ k1_t193 : Fin (k1_t193_loop i v266 v271).trips, ∀ (k1_h97 : k1_cond97 i v266 v271 = 1#1), ∀ a, (k1_off771 i v266 v271 k1_t193) a + S1x16.size a ≤ S256x128.size a)
def k1_chk1_1 (i : grid1.Coords) (v266 : BitVec 32) (v271 : BitVec 32) : Prop :=
  (∀ k1_t193 : Fin (k1_t193_loop i v266 v271).trips, ∀ (k1_h97 : k1_cond97 i v266 v271 = 1#1), ∀ a, (k1_off772 i v266 v271 k1_t193) a + S1x16.size a ≤ S256x128.size a) ∧
  (∀ k1_t193 : Fin (k1_t193_loop i v266 v271).trips, ∀ (k1_h97 : k1_cond97 i v266 v271 = 1#1), ∀ a, (k1_off773 i v266 v271 k1_t193) a + S1x16.size a ≤ S256x128.size a) ∧
  (∀ k1_t193 : Fin (k1_t193_loop i v266 v271).trips, ∀ (k1_h97 : k1_cond97 i v266 v271 = 1#1), ∀ a, (k1_off774 i v266 v271 k1_t193) a + S1x16.size a ≤ S256x128.size a) ∧
  (∀ (k1_h97 : k1_cond97 i v266 v271 = 1#1), (k1_t194_loop i v266 v271).OK) ∧
  (∀ k1_t194 : Fin (k1_t194_loop i v266 v271).trips, ∀ (k1_h97 : k1_cond97 i v266 v271 = 1#1), ∀ a, (k1_off775 i v266 v271 k1_t194) a + S1x16.size a ≤ S256x128.size a) ∧
  (∀ k1_t194 : Fin (k1_t194_loop i v266 v271).trips, ∀ (k1_h97 : k1_cond97 i v266 v271 = 1#1), ∀ a, (k1_off776 i v266 v271 k1_t194) a + S1x16.size a ≤ S256x128.size a) ∧
  (∀ k1_t194 : Fin (k1_t194_loop i v266 v271).trips, ∀ (k1_h97 : k1_cond97 i v266 v271 = 1#1), ∀ a, (k1_off777 i v266 v271 k1_t194) a + S1x16.size a ≤ S256x128.size a) ∧
  (∀ k1_t194 : Fin (k1_t194_loop i v266 v271).trips, ∀ (k1_h97 : k1_cond97 i v266 v271 = 1#1), ∀ a, (k1_off778 i v266 v271 k1_t194) a + S1x16.size a ≤ S256x128.size a)
def k1_chk1 (i : grid1.Coords) (v266 : BitVec 32) (v271 : BitVec 32) : Prop :=
  k1_chk1_0 i v266 v271 ∧
  k1_chk1_1 i v266 v271
theorem k1_t1_ok : ∀ (i : grid1.Coords) (v266 : BitVec 32) (v271 : BitVec 32) (k1_hw1 : k1_chk1 i v266 v271), ∀ (k1_h1 : k1_cond1 i v266 v271 = 1#1), (k1_t1_loop i v266 v271).OK := fun i v266 v271 k1_hw1 k1_h1 => k1_hw1.1.1 k1_h1
theorem k1_off2_inb : ∀ (i : grid1.Coords) (v266 : BitVec 32) (v271 : BitVec 32) (k1_hw1 : k1_chk1 i v266 v271) (k1_t1 : Fin (k1_t1_loop i v266 v271).trips), ∀ (k1_h1 : k1_cond1 i v266 v271 = 1#1), ∀ a, (k1_off2 i v266 v271 k1_t1) a + S1x16.size a ≤ S256x128.size a := fun i v266 v271 k1_hw1 k1_t1 k1_h1 => k1_hw1.1.2.1 k1_t1 k1_h1
theorem k1_off3_inb : ∀ (i : grid1.Coords) (v266 : BitVec 32) (v271 : BitVec 32) (k1_hw1 : k1_chk1 i v266 v271) (k1_t1 : Fin (k1_t1_loop i v266 v271).trips), ∀ (k1_h1 : k1_cond1 i v266 v271 = 1#1), ∀ a, (k1_off3 i v266 v271 k1_t1) a + S1x16.size a ≤ S256x128.size a := fun i v266 v271 k1_hw1 k1_t1 k1_h1 => k1_hw1.1.2.2.1 k1_t1 k1_h1
theorem k1_off4_inb : ∀ (i : grid1.Coords) (v266 : BitVec 32) (v271 : BitVec 32) (k1_hw1 : k1_chk1 i v266 v271) (k1_t1 : Fin (k1_t1_loop i v266 v271).trips), ∀ (k1_h1 : k1_cond1 i v266 v271 = 1#1), ∀ a, (k1_off4 i v266 v271 k1_t1) a + S1x16.size a ≤ S256x128.size a := fun i v266 v271 k1_hw1 k1_t1 k1_h1 => k1_hw1.1.2.2.2.1 k1_t1 k1_h1
theorem k1_off5_inb : ∀ (i : grid1.Coords) (v266 : BitVec 32) (v271 : BitVec 32) (k1_hw1 : k1_chk1 i v266 v271) (k1_t1 : Fin (k1_t1_loop i v266 v271).trips), ∀ (k1_h1 : k1_cond1 i v266 v271 = 1#1), ∀ a, (k1_off5 i v266 v271 k1_t1) a + S1x16.size a ≤ S256x128.size a := fun i v266 v271 k1_hw1 k1_t1 k1_h1 => k1_hw1.1.2.2.2.2.1 k1_t1 k1_h1
theorem k1_t2_ok : ∀ (i : grid1.Coords) (v266 : BitVec 32) (v271 : BitVec 32) (k1_hw1 : k1_chk1 i v266 v271), ∀ (k1_h1 : k1_cond1 i v266 v271 = 1#1), (k1_t2_loop i v266 v271).OK := fun i v266 v271 k1_hw1 k1_h1 => k1_hw1.1.2.2.2.2.2.1 k1_h1
theorem k1_off6_inb : ∀ (i : grid1.Coords) (v266 : BitVec 32) (v271 : BitVec 32) (k1_hw1 : k1_chk1 i v266 v271) (k1_t2 : Fin (k1_t2_loop i v266 v271).trips), ∀ (k1_h1 : k1_cond1 i v266 v271 = 1#1), ∀ a, (k1_off6 i v266 v271 k1_t2) a + S1x16.size a ≤ S256x128.size a := fun i v266 v271 k1_hw1 k1_t2 k1_h1 => k1_hw1.1.2.2.2.2.2.2.1 k1_t2 k1_h1
theorem k1_off7_inb : ∀ (i : grid1.Coords) (v266 : BitVec 32) (v271 : BitVec 32) (k1_hw1 : k1_chk1 i v266 v271) (k1_t2 : Fin (k1_t2_loop i v266 v271).trips), ∀ (k1_h1 : k1_cond1 i v266 v271 = 1#1), ∀ a, (k1_off7 i v266 v271 k1_t2) a + S1x16.size a ≤ S256x128.size a := fun i v266 v271 k1_hw1 k1_t2 k1_h1 => k1_hw1.1.2.2.2.2.2.2.2.1 k1_t2 k1_h1
theorem k1_off8_inb : ∀ (i : grid1.Coords) (v266 : BitVec 32) (v271 : BitVec 32) (k1_hw1 : k1_chk1 i v266 v271) (k1_t2 : Fin (k1_t2_loop i v266 v271).trips), ∀ (k1_h1 : k1_cond1 i v266 v271 = 1#1), ∀ a, (k1_off8 i v266 v271 k1_t2) a + S1x16.size a ≤ S256x128.size a := fun i v266 v271 k1_hw1 k1_t2 k1_h1 => k1_hw1.1.2.2.2.2.2.2.2.2.1 k1_t2 k1_h1
theorem k1_off9_inb : ∀ (i : grid1.Coords) (v266 : BitVec 32) (v271 : BitVec 32) (k1_hw1 : k1_chk1 i v266 v271) (k1_t2 : Fin (k1_t2_loop i v266 v271).trips), ∀ (k1_h1 : k1_cond1 i v266 v271 = 1#1), ∀ a, (k1_off9 i v266 v271 k1_t2) a + S1x16.size a ≤ S256x128.size a := fun i v266 v271 k1_hw1 k1_t2 k1_h1 => k1_hw1.1.2.2.2.2.2.2.2.2.2.1 k1_t2 k1_h1
theorem k1_t65_ok : ∀ (i : grid1.Coords) (v266 : BitVec 32) (v271 : BitVec 32) (k1_hw1 : k1_chk1 i v266 v271), ∀ (k1_h33 : k1_cond33 i v266 v271 = 1#1), (k1_t65_loop i v266 v271).OK := fun i v266 v271 k1_hw1 k1_h33 => k1_hw1.1.2.2.2.2.2.2.2.2.2.2.1 k1_h33
theorem k1_off259_inb : ∀ (i : grid1.Coords) (v266 : BitVec 32) (v271 : BitVec 32) (k1_hw1 : k1_chk1 i v266 v271) (k1_t65 : Fin (k1_t65_loop i v266 v271).trips), ∀ (k1_h33 : k1_cond33 i v266 v271 = 1#1), ∀ a, (k1_off259 i v266 v271 k1_t65) a + S1x16.size a ≤ S256x128.size a := fun i v266 v271 k1_hw1 k1_t65 k1_h33 => k1_hw1.1.2.2.2.2.2.2.2.2.2.2.2.1 k1_t65 k1_h33
theorem k1_off260_inb : ∀ (i : grid1.Coords) (v266 : BitVec 32) (v271 : BitVec 32) (k1_hw1 : k1_chk1 i v266 v271) (k1_t65 : Fin (k1_t65_loop i v266 v271).trips), ∀ (k1_h33 : k1_cond33 i v266 v271 = 1#1), ∀ a, (k1_off260 i v266 v271 k1_t65) a + S1x16.size a ≤ S256x128.size a := fun i v266 v271 k1_hw1 k1_t65 k1_h33 => k1_hw1.1.2.2.2.2.2.2.2.2.2.2.2.2.1 k1_t65 k1_h33
theorem k1_off261_inb : ∀ (i : grid1.Coords) (v266 : BitVec 32) (v271 : BitVec 32) (k1_hw1 : k1_chk1 i v266 v271) (k1_t65 : Fin (k1_t65_loop i v266 v271).trips), ∀ (k1_h33 : k1_cond33 i v266 v271 = 1#1), ∀ a, (k1_off261 i v266 v271 k1_t65) a + S1x16.size a ≤ S256x128.size a := fun i v266 v271 k1_hw1 k1_t65 k1_h33 => k1_hw1.1.2.2.2.2.2.2.2.2.2.2.2.2.2.1 k1_t65 k1_h33
theorem k1_off262_inb : ∀ (i : grid1.Coords) (v266 : BitVec 32) (v271 : BitVec 32) (k1_hw1 : k1_chk1 i v266 v271) (k1_t65 : Fin (k1_t65_loop i v266 v271).trips), ∀ (k1_h33 : k1_cond33 i v266 v271 = 1#1), ∀ a, (k1_off262 i v266 v271 k1_t65) a + S1x16.size a ≤ S256x128.size a := fun i v266 v271 k1_hw1 k1_t65 k1_h33 => k1_hw1.1.2.2.2.2.2.2.2.2.2.2.2.2.2.2.1 k1_t65 k1_h33
theorem k1_t66_ok : ∀ (i : grid1.Coords) (v266 : BitVec 32) (v271 : BitVec 32) (k1_hw1 : k1_chk1 i v266 v271), ∀ (k1_h33 : k1_cond33 i v266 v271 = 1#1), (k1_t66_loop i v266 v271).OK := fun i v266 v271 k1_hw1 k1_h33 => k1_hw1.1.2.2.2.2.2.2.2.2.2.2.2.2.2.2.2.1 k1_h33
theorem k1_off263_inb : ∀ (i : grid1.Coords) (v266 : BitVec 32) (v271 : BitVec 32) (k1_hw1 : k1_chk1 i v266 v271) (k1_t66 : Fin (k1_t66_loop i v266 v271).trips), ∀ (k1_h33 : k1_cond33 i v266 v271 = 1#1), ∀ a, (k1_off263 i v266 v271 k1_t66) a + S1x16.size a ≤ S256x128.size a := fun i v266 v271 k1_hw1 k1_t66 k1_h33 => k1_hw1.1.2.2.2.2.2.2.2.2.2.2.2.2.2.2.2.2.1 k1_t66 k1_h33
theorem k1_off264_inb : ∀ (i : grid1.Coords) (v266 : BitVec 32) (v271 : BitVec 32) (k1_hw1 : k1_chk1 i v266 v271) (k1_t66 : Fin (k1_t66_loop i v266 v271).trips), ∀ (k1_h33 : k1_cond33 i v266 v271 = 1#1), ∀ a, (k1_off264 i v266 v271 k1_t66) a + S1x16.size a ≤ S256x128.size a := fun i v266 v271 k1_hw1 k1_t66 k1_h33 => k1_hw1.1.2.2.2.2.2.2.2.2.2.2.2.2.2.2.2.2.2.1 k1_t66 k1_h33
theorem k1_off265_inb : ∀ (i : grid1.Coords) (v266 : BitVec 32) (v271 : BitVec 32) (k1_hw1 : k1_chk1 i v266 v271) (k1_t66 : Fin (k1_t66_loop i v266 v271).trips), ∀ (k1_h33 : k1_cond33 i v266 v271 = 1#1), ∀ a, (k1_off265 i v266 v271 k1_t66) a + S1x16.size a ≤ S256x128.size a := fun i v266 v271 k1_hw1 k1_t66 k1_h33 => k1_hw1.1.2.2.2.2.2.2.2.2.2.2.2.2.2.2.2.2.2.2.1 k1_t66 k1_h33
theorem k1_off266_inb : ∀ (i : grid1.Coords) (v266 : BitVec 32) (v271 : BitVec 32) (k1_hw1 : k1_chk1 i v266 v271) (k1_t66 : Fin (k1_t66_loop i v266 v271).trips), ∀ (k1_h33 : k1_cond33 i v266 v271 = 1#1), ∀ a, (k1_off266 i v266 v271 k1_t66) a + S1x16.size a ≤ S256x128.size a := fun i v266 v271 k1_hw1 k1_t66 k1_h33 => k1_hw1.1.2.2.2.2.2.2.2.2.2.2.2.2.2.2.2.2.2.2.2.1 k1_t66 k1_h33
theorem k1_t129_ok : ∀ (i : grid1.Coords) (v266 : BitVec 32) (v271 : BitVec 32) (k1_hw1 : k1_chk1 i v266 v271), ∀ (k1_h65 : k1_cond65 i v266 v271 = 1#1), (k1_t129_loop i v266 v271).OK := fun i v266 v271 k1_hw1 k1_h65 => k1_hw1.1.2.2.2.2.2.2.2.2.2.2.2.2.2.2.2.2.2.2.2.2.1 k1_h65
theorem k1_off515_inb : ∀ (i : grid1.Coords) (v266 : BitVec 32) (v271 : BitVec 32) (k1_hw1 : k1_chk1 i v266 v271) (k1_t129 : Fin (k1_t129_loop i v266 v271).trips), ∀ (k1_h65 : k1_cond65 i v266 v271 = 1#1), ∀ a, (k1_off515 i v266 v271 k1_t129) a + S1x16.size a ≤ S256x128.size a := fun i v266 v271 k1_hw1 k1_t129 k1_h65 => k1_hw1.1.2.2.2.2.2.2.2.2.2.2.2.2.2.2.2.2.2.2.2.2.2.1 k1_t129 k1_h65
theorem k1_off516_inb : ∀ (i : grid1.Coords) (v266 : BitVec 32) (v271 : BitVec 32) (k1_hw1 : k1_chk1 i v266 v271) (k1_t129 : Fin (k1_t129_loop i v266 v271).trips), ∀ (k1_h65 : k1_cond65 i v266 v271 = 1#1), ∀ a, (k1_off516 i v266 v271 k1_t129) a + S1x16.size a ≤ S256x128.size a := fun i v266 v271 k1_hw1 k1_t129 k1_h65 => k1_hw1.1.2.2.2.2.2.2.2.2.2.2.2.2.2.2.2.2.2.2.2.2.2.2.1 k1_t129 k1_h65
theorem k1_off517_inb : ∀ (i : grid1.Coords) (v266 : BitVec 32) (v271 : BitVec 32) (k1_hw1 : k1_chk1 i v266 v271) (k1_t129 : Fin (k1_t129_loop i v266 v271).trips), ∀ (k1_h65 : k1_cond65 i v266 v271 = 1#1), ∀ a, (k1_off517 i v266 v271 k1_t129) a + S1x16.size a ≤ S256x128.size a := fun i v266 v271 k1_hw1 k1_t129 k1_h65 => k1_hw1.1.2.2.2.2.2.2.2.2.2.2.2.2.2.2.2.2.2.2.2.2.2.2.2.1 k1_t129 k1_h65
theorem k1_off518_inb : ∀ (i : grid1.Coords) (v266 : BitVec 32) (v271 : BitVec 32) (k1_hw1 : k1_chk1 i v266 v271) (k1_t129 : Fin (k1_t129_loop i v266 v271).trips), ∀ (k1_h65 : k1_cond65 i v266 v271 = 1#1), ∀ a, (k1_off518 i v266 v271 k1_t129) a + S1x16.size a ≤ S256x128.size a := fun i v266 v271 k1_hw1 k1_t129 k1_h65 => k1_hw1.1.2.2.2.2.2.2.2.2.2.2.2.2.2.2.2.2.2.2.2.2.2.2.2.2.1 k1_t129 k1_h65
theorem k1_t130_ok : ∀ (i : grid1.Coords) (v266 : BitVec 32) (v271 : BitVec 32) (k1_hw1 : k1_chk1 i v266 v271), ∀ (k1_h65 : k1_cond65 i v266 v271 = 1#1), (k1_t130_loop i v266 v271).OK := fun i v266 v271 k1_hw1 k1_h65 => k1_hw1.1.2.2.2.2.2.2.2.2.2.2.2.2.2.2.2.2.2.2.2.2.2.2.2.2.2.1 k1_h65
theorem k1_off519_inb : ∀ (i : grid1.Coords) (v266 : BitVec 32) (v271 : BitVec 32) (k1_hw1 : k1_chk1 i v266 v271) (k1_t130 : Fin (k1_t130_loop i v266 v271).trips), ∀ (k1_h65 : k1_cond65 i v266 v271 = 1#1), ∀ a, (k1_off519 i v266 v271 k1_t130) a + S1x16.size a ≤ S256x128.size a := fun i v266 v271 k1_hw1 k1_t130 k1_h65 => k1_hw1.1.2.2.2.2.2.2.2.2.2.2.2.2.2.2.2.2.2.2.2.2.2.2.2.2.2.2.1 k1_t130 k1_h65
theorem k1_off520_inb : ∀ (i : grid1.Coords) (v266 : BitVec 32) (v271 : BitVec 32) (k1_hw1 : k1_chk1 i v266 v271) (k1_t130 : Fin (k1_t130_loop i v266 v271).trips), ∀ (k1_h65 : k1_cond65 i v266 v271 = 1#1), ∀ a, (k1_off520 i v266 v271 k1_t130) a + S1x16.size a ≤ S256x128.size a := fun i v266 v271 k1_hw1 k1_t130 k1_h65 => k1_hw1.1.2.2.2.2.2.2.2.2.2.2.2.2.2.2.2.2.2.2.2.2.2.2.2.2.2.2.2.1 k1_t130 k1_h65
theorem k1_off521_inb : ∀ (i : grid1.Coords) (v266 : BitVec 32) (v271 : BitVec 32) (k1_hw1 : k1_chk1 i v266 v271) (k1_t130 : Fin (k1_t130_loop i v266 v271).trips), ∀ (k1_h65 : k1_cond65 i v266 v271 = 1#1), ∀ a, (k1_off521 i v266 v271 k1_t130) a + S1x16.size a ≤ S256x128.size a := fun i v266 v271 k1_hw1 k1_t130 k1_h65 => k1_hw1.1.2.2.2.2.2.2.2.2.2.2.2.2.2.2.2.2.2.2.2.2.2.2.2.2.2.2.2.2.1 k1_t130 k1_h65
theorem k1_off522_inb : ∀ (i : grid1.Coords) (v266 : BitVec 32) (v271 : BitVec 32) (k1_hw1 : k1_chk1 i v266 v271) (k1_t130 : Fin (k1_t130_loop i v266 v271).trips), ∀ (k1_h65 : k1_cond65 i v266 v271 = 1#1), ∀ a, (k1_off522 i v266 v271 k1_t130) a + S1x16.size a ≤ S256x128.size a := fun i v266 v271 k1_hw1 k1_t130 k1_h65 => k1_hw1.1.2.2.2.2.2.2.2.2.2.2.2.2.2.2.2.2.2.2.2.2.2.2.2.2.2.2.2.2.2.1 k1_t130 k1_h65
theorem k1_t193_ok : ∀ (i : grid1.Coords) (v266 : BitVec 32) (v271 : BitVec 32) (k1_hw1 : k1_chk1 i v266 v271), ∀ (k1_h97 : k1_cond97 i v266 v271 = 1#1), (k1_t193_loop i v266 v271).OK := fun i v266 v271 k1_hw1 k1_h97 => k1_hw1.1.2.2.2.2.2.2.2.2.2.2.2.2.2.2.2.2.2.2.2.2.2.2.2.2.2.2.2.2.2.2.1 k1_h97
theorem k1_off771_inb : ∀ (i : grid1.Coords) (v266 : BitVec 32) (v271 : BitVec 32) (k1_hw1 : k1_chk1 i v266 v271) (k1_t193 : Fin (k1_t193_loop i v266 v271).trips), ∀ (k1_h97 : k1_cond97 i v266 v271 = 1#1), ∀ a, (k1_off771 i v266 v271 k1_t193) a + S1x16.size a ≤ S256x128.size a := fun i v266 v271 k1_hw1 k1_t193 k1_h97 => k1_hw1.1.2.2.2.2.2.2.2.2.2.2.2.2.2.2.2.2.2.2.2.2.2.2.2.2.2.2.2.2.2.2.2 k1_t193 k1_h97
theorem k1_off772_inb : ∀ (i : grid1.Coords) (v266 : BitVec 32) (v271 : BitVec 32) (k1_hw1 : k1_chk1 i v266 v271) (k1_t193 : Fin (k1_t193_loop i v266 v271).trips), ∀ (k1_h97 : k1_cond97 i v266 v271 = 1#1), ∀ a, (k1_off772 i v266 v271 k1_t193) a + S1x16.size a ≤ S256x128.size a := fun i v266 v271 k1_hw1 k1_t193 k1_h97 => k1_hw1.2.1 k1_t193 k1_h97
theorem k1_off773_inb : ∀ (i : grid1.Coords) (v266 : BitVec 32) (v271 : BitVec 32) (k1_hw1 : k1_chk1 i v266 v271) (k1_t193 : Fin (k1_t193_loop i v266 v271).trips), ∀ (k1_h97 : k1_cond97 i v266 v271 = 1#1), ∀ a, (k1_off773 i v266 v271 k1_t193) a + S1x16.size a ≤ S256x128.size a := fun i v266 v271 k1_hw1 k1_t193 k1_h97 => k1_hw1.2.2.1 k1_t193 k1_h97
theorem k1_off774_inb : ∀ (i : grid1.Coords) (v266 : BitVec 32) (v271 : BitVec 32) (k1_hw1 : k1_chk1 i v266 v271) (k1_t193 : Fin (k1_t193_loop i v266 v271).trips), ∀ (k1_h97 : k1_cond97 i v266 v271 = 1#1), ∀ a, (k1_off774 i v266 v271 k1_t193) a + S1x16.size a ≤ S256x128.size a := fun i v266 v271 k1_hw1 k1_t193 k1_h97 => k1_hw1.2.2.2.1 k1_t193 k1_h97
theorem k1_t194_ok : ∀ (i : grid1.Coords) (v266 : BitVec 32) (v271 : BitVec 32) (k1_hw1 : k1_chk1 i v266 v271), ∀ (k1_h97 : k1_cond97 i v266 v271 = 1#1), (k1_t194_loop i v266 v271).OK := fun i v266 v271 k1_hw1 k1_h97 => k1_hw1.2.2.2.2.1 k1_h97
theorem k1_off775_inb : ∀ (i : grid1.Coords) (v266 : BitVec 32) (v271 : BitVec 32) (k1_hw1 : k1_chk1 i v266 v271) (k1_t194 : Fin (k1_t194_loop i v266 v271).trips), ∀ (k1_h97 : k1_cond97 i v266 v271 = 1#1), ∀ a, (k1_off775 i v266 v271 k1_t194) a + S1x16.size a ≤ S256x128.size a := fun i v266 v271 k1_hw1 k1_t194 k1_h97 => k1_hw1.2.2.2.2.2.1 k1_t194 k1_h97
theorem k1_off776_inb : ∀ (i : grid1.Coords) (v266 : BitVec 32) (v271 : BitVec 32) (k1_hw1 : k1_chk1 i v266 v271) (k1_t194 : Fin (k1_t194_loop i v266 v271).trips), ∀ (k1_h97 : k1_cond97 i v266 v271 = 1#1), ∀ a, (k1_off776 i v266 v271 k1_t194) a + S1x16.size a ≤ S256x128.size a := fun i v266 v271 k1_hw1 k1_t194 k1_h97 => k1_hw1.2.2.2.2.2.2.1 k1_t194 k1_h97
theorem k1_off777_inb : ∀ (i : grid1.Coords) (v266 : BitVec 32) (v271 : BitVec 32) (k1_hw1 : k1_chk1 i v266 v271) (k1_t194 : Fin (k1_t194_loop i v266 v271).trips), ∀ (k1_h97 : k1_cond97 i v266 v271 = 1#1), ∀ a, (k1_off777 i v266 v271 k1_t194) a + S1x16.size a ≤ S256x128.size a := fun i v266 v271 k1_hw1 k1_t194 k1_h97 => k1_hw1.2.2.2.2.2.2.2.1 k1_t194 k1_h97
theorem k1_off778_inb : ∀ (i : grid1.Coords) (v266 : BitVec 32) (v271 : BitVec 32) (k1_hw1 : k1_chk1 i v266 v271) (k1_t194 : Fin (k1_t194_loop i v266 v271).trips), ∀ (k1_h97 : k1_cond97 i v266 v271 = 1#1), ∀ a, (k1_off778 i v266 v271 k1_t194) a + S1x16.size a ≤ S256x128.size a := fun i v266 v271 k1_hw1 k1_t194 k1_h97 => k1_hw1.2.2.2.2.2.2.2.2 k1_t194 k1_h97

@[reducible] def k1_t195_loop (i : grid1.Coords) (v276 : BitVec 32) (v282 : BitVec 32) : Scf.Loop 32 :=
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let c256_i32_976 : BitVec 32 := 256#32
  let c0_i32_975 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c768_i32_974 : BitVec 32 := 768#32
  let v1517 : BitVec 32 := Scalar.subi v286 c768_i32_974
  let v1518 : BitVec 32 := Scalar.maxsi c0_i32_975 v1517
  let v1519 : BitVec 32 := Scalar.minsi c256_i32_976 v1518
  let v1805 : BitVec 32 := Scalar.subi v1519 v1516
  let c1_i32_1196 : BitVec 32 := 1#32
  let v1807 : BitVec 32 := Scalar.divsi v1805 c1_i32_1196
  let v1808 : BitVec 32 := Scalar.muli v1807 c1_i32_1196
  let v1809 : BitVec 32 := Scalar.addi v1516 v1808
  let c1_i32_1197 : BitVec 32 := 1#32
  ⟨v1516, v1809, c1_i32_1197⟩
def k1_cond98 (i : grid1.Coords) (v276 : BitVec 32) (v282 : BitVec 32) : BitVec 1 :=
  let c256_i32_976 : BitVec 32 := 256#32
  let c0_i32_975 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v284 : BitVec 32 := Scalar.subi v283 v3
  let v285 : BitVec 32 := Scalar.maxsi c0_i32_119 v284
  let v286 : BitVec 32 := Scalar.minsi c1024_i32_120 v285
  let c768_i32_974 : BitVec 32 := 768#32
  let v1517 : BitVec 32 := Scalar.subi v286 c768_i32_974
  let v1518 : BitVec 32 := Scalar.maxsi c0_i32_975 v1517
  let v1519 : BitVec 32 := Scalar.minsi c256_i32_976 v1518
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let v1520 : BitVec 1 := Scalar.cmpi .sgt v1519 v1516
  let v1521 : BitVec 32 := Scalar.extui v1520
  let c0_i32_977 : BitVec 32 := 0#32
  let v1522 : BitVec 1 := Scalar.cmpi .ne v1521 c0_i32_977
  v1522

def k1_off779 (i : grid1.Coords) (v276 : BitVec 32) (v282 : BitVec 32) (k1_t195 : Fin (k1_t195_loop i v276 v282).trips) : Fin 2 → Nat :=
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let c1_i32_1197 : BitVec 32 := 1#32
  let arg13 : BitVec 32 := Scf.iv v1516 c1_i32_1197 k1_t195
  let v1828 : Index := Scalar.indexCast arg13
  let c64 : Index := 64#32
  ![v1828.toNat, 64]
def k1_off780 (i : grid1.Coords) (v276 : BitVec 32) (v282 : BitVec 32) (k1_t195 : Fin (k1_t195_loop i v276 v282).trips) : Fin 2 → Nat :=
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let c1_i32_1197 : BitVec 32 := 1#32
  let arg13 : BitVec 32 := Scf.iv v1516 c1_i32_1197 k1_t195
  let v1832 : Index := Scalar.indexCast arg13
  let c80 : Index := 80#32
  ![v1832.toNat, 80]
def k1_off781 (i : grid1.Coords) (v276 : BitVec 32) (v282 : BitVec 32) (k1_t195 : Fin (k1_t195_loop i v276 v282).trips) : Fin 2 → Nat :=
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let c1_i32_1197 : BitVec 32 := 1#32
  let arg13 : BitVec 32 := Scf.iv v1516 c1_i32_1197 k1_t195
  let v1836 : Index := Scalar.indexCast arg13
  let c96 : Index := 96#32
  ![v1836.toNat, 96]
def k1_off782 (i : grid1.Coords) (v276 : BitVec 32) (v282 : BitVec 32) (k1_t195 : Fin (k1_t195_loop i v276 v282).trips) : Fin 2 → Nat :=
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let c1_i32_1197 : BitVec 32 := 1#32
  let arg13 : BitVec 32 := Scf.iv v1516 c1_i32_1197 k1_t195
  let v1840 : Index := Scalar.indexCast arg13
  let c112 : Index := 112#32
  ![v1840.toNat, 112]
@[reducible] def k1_t196_loop (i : grid1.Coords) (v276 : BitVec 32) (v282 : BitVec 32) : Scf.Loop 32 :=
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let c256_i32_976 : BitVec 32 := 256#32
  let c0_i32_975 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c768_i32_974 : BitVec 32 := 768#32
  let v1517 : BitVec 32 := Scalar.subi v286 c768_i32_974
  let v1518 : BitVec 32 := Scalar.maxsi c0_i32_975 v1517
  let v1519 : BitVec 32 := Scalar.minsi c256_i32_976 v1518
  let v1805 : BitVec 32 := Scalar.subi v1519 v1516
  let c1_i32_1196 : BitVec 32 := 1#32
  let v1807 : BitVec 32 := Scalar.divsi v1805 c1_i32_1196
  let v1808 : BitVec 32 := Scalar.muli v1807 c1_i32_1196
  let v1809 : BitVec 32 := Scalar.addi v1516 v1808
  let v1806 : BitVec 32 := Scalar.addi v1516 v1805
  let c1_i32_1198 : BitVec 32 := 1#32
  ⟨v1809, v1806, c1_i32_1198⟩
def k1_off783 (i : grid1.Coords) (v276 : BitVec 32) (v282 : BitVec 32) (k1_t196 : Fin (k1_t196_loop i v276 v282).trips) : Fin 2 → Nat :=
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let c256_i32_976 : BitVec 32 := 256#32
  let c0_i32_975 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c768_i32_974 : BitVec 32 := 768#32
  let v1517 : BitVec 32 := Scalar.subi v286 c768_i32_974
  let v1518 : BitVec 32 := Scalar.maxsi c0_i32_975 v1517
  let v1519 : BitVec 32 := Scalar.minsi c256_i32_976 v1518
  let v1805 : BitVec 32 := Scalar.subi v1519 v1516
  let c1_i32_1196 : BitVec 32 := 1#32
  let v1807 : BitVec 32 := Scalar.divsi v1805 c1_i32_1196
  let v1808 : BitVec 32 := Scalar.muli v1807 c1_i32_1196
  let v1809 : BitVec 32 := Scalar.addi v1516 v1808
  let c1_i32_1198 : BitVec 32 := 1#32
  let arg13 : BitVec 32 := Scf.iv v1809 c1_i32_1198 k1_t196
  let v1828 : Index := Scalar.indexCast arg13
  let c64 : Index := 64#32
  ![v1828.toNat, 64]
def k1_off784 (i : grid1.Coords) (v276 : BitVec 32) (v282 : BitVec 32) (k1_t196 : Fin (k1_t196_loop i v276 v282).trips) : Fin 2 → Nat :=
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let c256_i32_976 : BitVec 32 := 256#32
  let c0_i32_975 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c768_i32_974 : BitVec 32 := 768#32
  let v1517 : BitVec 32 := Scalar.subi v286 c768_i32_974
  let v1518 : BitVec 32 := Scalar.maxsi c0_i32_975 v1517
  let v1519 : BitVec 32 := Scalar.minsi c256_i32_976 v1518
  let v1805 : BitVec 32 := Scalar.subi v1519 v1516
  let c1_i32_1196 : BitVec 32 := 1#32
  let v1807 : BitVec 32 := Scalar.divsi v1805 c1_i32_1196
  let v1808 : BitVec 32 := Scalar.muli v1807 c1_i32_1196
  let v1809 : BitVec 32 := Scalar.addi v1516 v1808
  let c1_i32_1198 : BitVec 32 := 1#32
  let arg13 : BitVec 32 := Scf.iv v1809 c1_i32_1198 k1_t196
  let v1832 : Index := Scalar.indexCast arg13
  let c80 : Index := 80#32
  ![v1832.toNat, 80]
def k1_off785 (i : grid1.Coords) (v276 : BitVec 32) (v282 : BitVec 32) (k1_t196 : Fin (k1_t196_loop i v276 v282).trips) : Fin 2 → Nat :=
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let c256_i32_976 : BitVec 32 := 256#32
  let c0_i32_975 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c768_i32_974 : BitVec 32 := 768#32
  let v1517 : BitVec 32 := Scalar.subi v286 c768_i32_974
  let v1518 : BitVec 32 := Scalar.maxsi c0_i32_975 v1517
  let v1519 : BitVec 32 := Scalar.minsi c256_i32_976 v1518
  let v1805 : BitVec 32 := Scalar.subi v1519 v1516
  let c1_i32_1196 : BitVec 32 := 1#32
  let v1807 : BitVec 32 := Scalar.divsi v1805 c1_i32_1196
  let v1808 : BitVec 32 := Scalar.muli v1807 c1_i32_1196
  let v1809 : BitVec 32 := Scalar.addi v1516 v1808
  let c1_i32_1198 : BitVec 32 := 1#32
  let arg13 : BitVec 32 := Scf.iv v1809 c1_i32_1198 k1_t196
  let v1836 : Index := Scalar.indexCast arg13
  let c96 : Index := 96#32
  ![v1836.toNat, 96]
def k1_off786 (i : grid1.Coords) (v276 : BitVec 32) (v282 : BitVec 32) (k1_t196 : Fin (k1_t196_loop i v276 v282).trips) : Fin 2 → Nat :=
  let c256_i32_973 : BitVec 32 := 256#32
  let c0_i32_972 : BitVec 32 := 0#32
  let c1024_i32_117 : BitVec 32 := 1024#32
  let c0_i32_116 : BitVec 32 := 0#32
  let c65536_i32 : BitVec 32 := 65536#32
  let v277 : BitVec 32 := Scalar.subi v276 c65536_i32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v278 : BitVec 32 := Scalar.subi v277 v3
  let v279 : BitVec 32 := Scalar.maxsi c0_i32_116 v278
  let v280 : BitVec 32 := Scalar.minsi c1024_i32_117 v279
  let c768_i32_971 : BitVec 32 := 768#32
  let v1514 : BitVec 32 := Scalar.subi v280 c768_i32_971
  let v1515 : BitVec 32 := Scalar.maxsi c0_i32_972 v1514
  let v1516 : BitVec 32 := Scalar.minsi c256_i32_973 v1515
  let c256_i32_976 : BitVec 32 := 256#32
  let c0_i32_975 : BitVec 32 := 0#32
  let c1024_i32_120 : BitVec 32 := 1024#32
  let c0_i32_119 : BitVec 32 := 0#32
  let c65536_i32_118 : BitVec 32 := 65536#32
  let v283 : BitVec 32 := Scalar.subi v282 c65536_i32_118
  let v284 : BitVec 32 := Scalar.subi v283 v3
  let v285 : BitVec 32 := Scalar.maxsi c0_i32_119 v284
  let v286 : BitVec 32 := Scalar.minsi c1024_i32_120 v285
  let c768_i32_974 : BitVec 32 := 768#32
  let v1517 : BitVec 32 := Scalar.subi v286 c768_i32_974
  let v1518 : BitVec 32 := Scalar.maxsi c0_i32_975 v1517
  let v1519 : BitVec 32 := Scalar.minsi c256_i32_976 v1518
  let v1805 : BitVec 32 := Scalar.subi v1519 v1516
  let c1_i32_1196 : BitVec 32 := 1#32
  let v1807 : BitVec 32 := Scalar.divsi v1805 c1_i32_1196
  let v1808 : BitVec 32 := Scalar.muli v1807 c1_i32_1196
  let v1809 : BitVec 32 := Scalar.addi v1516 v1808
  let c1_i32_1198 : BitVec 32 := 1#32
  let arg13 : BitVec 32 := Scf.iv v1809 c1_i32_1198 k1_t196
  let v1840 : Index := Scalar.indexCast arg13
  let c112 : Index := 112#32
  ![v1840.toNat, 112]

def k1_chk2_0 (i : grid1.Coords) (v276 : BitVec 32) (v282 : BitVec 32) : Prop :=
  (∀ (k1_h2 : k1_cond2 i v276 v282 = 1#1), (k1_t3_loop i v276 v282).OK) ∧
  (∀ k1_t3 : Fin (k1_t3_loop i v276 v282).trips, ∀ (k1_h2 : k1_cond2 i v276 v282 = 1#1), ∀ a, (k1_off10 i v276 v282 k1_t3) a + S1x16.size a ≤ S256x128.size a) ∧
  (∀ k1_t3 : Fin (k1_t3_loop i v276 v282).trips, ∀ (k1_h2 : k1_cond2 i v276 v282 = 1#1), ∀ a, (k1_off11 i v276 v282 k1_t3) a + S1x16.size a ≤ S256x128.size a) ∧
  (∀ k1_t3 : Fin (k1_t3_loop i v276 v282).trips, ∀ (k1_h2 : k1_cond2 i v276 v282 = 1#1), ∀ a, (k1_off12 i v276 v282 k1_t3) a + S1x16.size a ≤ S256x128.size a) ∧
  (∀ k1_t3 : Fin (k1_t3_loop i v276 v282).trips, ∀ (k1_h2 : k1_cond2 i v276 v282 = 1#1), ∀ a, (k1_off13 i v276 v282 k1_t3) a + S1x16.size a ≤ S256x128.size a) ∧
  (∀ (k1_h2 : k1_cond2 i v276 v282 = 1#1), (k1_t4_loop i v276 v282).OK) ∧
  (∀ k1_t4 : Fin (k1_t4_loop i v276 v282).trips, ∀ (k1_h2 : k1_cond2 i v276 v282 = 1#1), ∀ a, (k1_off14 i v276 v282 k1_t4) a + S1x16.size a ≤ S256x128.size a) ∧
  (∀ k1_t4 : Fin (k1_t4_loop i v276 v282).trips, ∀ (k1_h2 : k1_cond2 i v276 v282 = 1#1), ∀ a, (k1_off15 i v276 v282 k1_t4) a + S1x16.size a ≤ S256x128.size a) ∧
  (∀ k1_t4 : Fin (k1_t4_loop i v276 v282).trips, ∀ (k1_h2 : k1_cond2 i v276 v282 = 1#1), ∀ a, (k1_off16 i v276 v282 k1_t4) a + S1x16.size a ≤ S256x128.size a) ∧
  (∀ k1_t4 : Fin (k1_t4_loop i v276 v282).trips, ∀ (k1_h2 : k1_cond2 i v276 v282 = 1#1), ∀ a, (k1_off17 i v276 v282 k1_t4) a + S1x16.size a ≤ S256x128.size a) ∧
  (∀ (k1_h34 : k1_cond34 i v276 v282 = 1#1), (k1_t67_loop i v276 v282).OK) ∧
  (∀ k1_t67 : Fin (k1_t67_loop i v276 v282).trips, ∀ (k1_h34 : k1_cond34 i v276 v282 = 1#1), ∀ a, (k1_off267 i v276 v282 k1_t67) a + S1x16.size a ≤ S256x128.size a) ∧
  (∀ k1_t67 : Fin (k1_t67_loop i v276 v282).trips, ∀ (k1_h34 : k1_cond34 i v276 v282 = 1#1), ∀ a, (k1_off268 i v276 v282 k1_t67) a + S1x16.size a ≤ S256x128.size a) ∧
  (∀ k1_t67 : Fin (k1_t67_loop i v276 v282).trips, ∀ (k1_h34 : k1_cond34 i v276 v282 = 1#1), ∀ a, (k1_off269 i v276 v282 k1_t67) a + S1x16.size a ≤ S256x128.size a) ∧
  (∀ k1_t67 : Fin (k1_t67_loop i v276 v282).trips, ∀ (k1_h34 : k1_cond34 i v276 v282 = 1#1), ∀ a, (k1_off270 i v276 v282 k1_t67) a + S1x16.size a ≤ S256x128.size a) ∧
  (∀ (k1_h34 : k1_cond34 i v276 v282 = 1#1), (k1_t68_loop i v276 v282).OK) ∧
  (∀ k1_t68 : Fin (k1_t68_loop i v276 v282).trips, ∀ (k1_h34 : k1_cond34 i v276 v282 = 1#1), ∀ a, (k1_off271 i v276 v282 k1_t68) a + S1x16.size a ≤ S256x128.size a) ∧
  (∀ k1_t68 : Fin (k1_t68_loop i v276 v282).trips, ∀ (k1_h34 : k1_cond34 i v276 v282 = 1#1), ∀ a, (k1_off272 i v276 v282 k1_t68) a + S1x16.size a ≤ S256x128.size a) ∧
  (∀ k1_t68 : Fin (k1_t68_loop i v276 v282).trips, ∀ (k1_h34 : k1_cond34 i v276 v282 = 1#1), ∀ a, (k1_off273 i v276 v282 k1_t68) a + S1x16.size a ≤ S256x128.size a) ∧
  (∀ k1_t68 : Fin (k1_t68_loop i v276 v282).trips, ∀ (k1_h34 : k1_cond34 i v276 v282 = 1#1), ∀ a, (k1_off274 i v276 v282 k1_t68) a + S1x16.size a ≤ S256x128.size a) ∧
  (∀ (k1_h66 : k1_cond66 i v276 v282 = 1#1), (k1_t131_loop i v276 v282).OK) ∧
  (∀ k1_t131 : Fin (k1_t131_loop i v276 v282).trips, ∀ (k1_h66 : k1_cond66 i v276 v282 = 1#1), ∀ a, (k1_off523 i v276 v282 k1_t131) a + S1x16.size a ≤ S256x128.size a) ∧
  (∀ k1_t131 : Fin (k1_t131_loop i v276 v282).trips, ∀ (k1_h66 : k1_cond66 i v276 v282 = 1#1), ∀ a, (k1_off524 i v276 v282 k1_t131) a + S1x16.size a ≤ S256x128.size a) ∧
  (∀ k1_t131 : Fin (k1_t131_loop i v276 v282).trips, ∀ (k1_h66 : k1_cond66 i v276 v282 = 1#1), ∀ a, (k1_off525 i v276 v282 k1_t131) a + S1x16.size a ≤ S256x128.size a) ∧
  (∀ k1_t131 : Fin (k1_t131_loop i v276 v282).trips, ∀ (k1_h66 : k1_cond66 i v276 v282 = 1#1), ∀ a, (k1_off526 i v276 v282 k1_t131) a + S1x16.size a ≤ S256x128.size a) ∧
  (∀ (k1_h66 : k1_cond66 i v276 v282 = 1#1), (k1_t132_loop i v276 v282).OK) ∧
  (∀ k1_t132 : Fin (k1_t132_loop i v276 v282).trips, ∀ (k1_h66 : k1_cond66 i v276 v282 = 1#1), ∀ a, (k1_off527 i v276 v282 k1_t132) a + S1x16.size a ≤ S256x128.size a) ∧
  (∀ k1_t132 : Fin (k1_t132_loop i v276 v282).trips, ∀ (k1_h66 : k1_cond66 i v276 v282 = 1#1), ∀ a, (k1_off528 i v276 v282 k1_t132) a + S1x16.size a ≤ S256x128.size a) ∧
  (∀ k1_t132 : Fin (k1_t132_loop i v276 v282).trips, ∀ (k1_h66 : k1_cond66 i v276 v282 = 1#1), ∀ a, (k1_off529 i v276 v282 k1_t132) a + S1x16.size a ≤ S256x128.size a) ∧
  (∀ k1_t132 : Fin (k1_t132_loop i v276 v282).trips, ∀ (k1_h66 : k1_cond66 i v276 v282 = 1#1), ∀ a, (k1_off530 i v276 v282 k1_t132) a + S1x16.size a ≤ S256x128.size a) ∧
  (∀ (k1_h98 : k1_cond98 i v276 v282 = 1#1), (k1_t195_loop i v276 v282).OK) ∧
  (∀ k1_t195 : Fin (k1_t195_loop i v276 v282).trips, ∀ (k1_h98 : k1_cond98 i v276 v282 = 1#1), ∀ a, (k1_off779 i v276 v282 k1_t195) a + S1x16.size a ≤ S256x128.size a)
def k1_chk2_1 (i : grid1.Coords) (v276 : BitVec 32) (v282 : BitVec 32) : Prop :=
  (∀ k1_t195 : Fin (k1_t195_loop i v276 v282).trips, ∀ (k1_h98 : k1_cond98 i v276 v282 = 1#1), ∀ a, (k1_off780 i v276 v282 k1_t195) a + S1x16.size a ≤ S256x128.size a) ∧
  (∀ k1_t195 : Fin (k1_t195_loop i v276 v282).trips, ∀ (k1_h98 : k1_cond98 i v276 v282 = 1#1), ∀ a, (k1_off781 i v276 v282 k1_t195) a + S1x16.size a ≤ S256x128.size a) ∧
  (∀ k1_t195 : Fin (k1_t195_loop i v276 v282).trips, ∀ (k1_h98 : k1_cond98 i v276 v282 = 1#1), ∀ a, (k1_off782 i v276 v282 k1_t195) a + S1x16.size a ≤ S256x128.size a) ∧
  (∀ (k1_h98 : k1_cond98 i v276 v282 = 1#1), (k1_t196_loop i v276 v282).OK) ∧
  (∀ k1_t196 : Fin (k1_t196_loop i v276 v282).trips, ∀ (k1_h98 : k1_cond98 i v276 v282 = 1#1), ∀ a, (k1_off783 i v276 v282 k1_t196) a + S1x16.size a ≤ S256x128.size a) ∧
  (∀ k1_t196 : Fin (k1_t196_loop i v276 v282).trips, ∀ (k1_h98 : k1_cond98 i v276 v282 = 1#1), ∀ a, (k1_off784 i v276 v282 k1_t196) a + S1x16.size a ≤ S256x128.size a) ∧
  (∀ k1_t196 : Fin (k1_t196_loop i v276 v282).trips, ∀ (k1_h98 : k1_cond98 i v276 v282 = 1#1), ∀ a, (k1_off785 i v276 v282 k1_t196) a + S1x16.size a ≤ S256x128.size a) ∧
  (∀ k1_t196 : Fin (k1_t196_loop i v276 v282).trips, ∀ (k1_h98 : k1_cond98 i v276 v282 = 1#1), ∀ a, (k1_off786 i v276 v282 k1_t196) a + S1x16.size a ≤ S256x128.size a)
def k1_chk2 (i : grid1.Coords) (v276 : BitVec 32) (v282 : BitVec 32) : Prop :=
  k1_chk2_0 i v276 v282 ∧
  k1_chk2_1 i v276 v282
theorem k1_t3_ok : ∀ (i : grid1.Coords) (v276 : BitVec 32) (v282 : BitVec 32) (k1_hw2 : k1_chk2 i v276 v282), ∀ (k1_h2 : k1_cond2 i v276 v282 = 1#1), (k1_t3_loop i v276 v282).OK := fun i v276 v282 k1_hw2 k1_h2 => k1_hw2.1.1 k1_h2
theorem k1_off10_inb : ∀ (i : grid1.Coords) (v276 : BitVec 32) (v282 : BitVec 32) (k1_hw2 : k1_chk2 i v276 v282) (k1_t3 : Fin (k1_t3_loop i v276 v282).trips), ∀ (k1_h2 : k1_cond2 i v276 v282 = 1#1), ∀ a, (k1_off10 i v276 v282 k1_t3) a + S1x16.size a ≤ S256x128.size a := fun i v276 v282 k1_hw2 k1_t3 k1_h2 => k1_hw2.1.2.1 k1_t3 k1_h2
theorem k1_off11_inb : ∀ (i : grid1.Coords) (v276 : BitVec 32) (v282 : BitVec 32) (k1_hw2 : k1_chk2 i v276 v282) (k1_t3 : Fin (k1_t3_loop i v276 v282).trips), ∀ (k1_h2 : k1_cond2 i v276 v282 = 1#1), ∀ a, (k1_off11 i v276 v282 k1_t3) a + S1x16.size a ≤ S256x128.size a := fun i v276 v282 k1_hw2 k1_t3 k1_h2 => k1_hw2.1.2.2.1 k1_t3 k1_h2
theorem k1_off12_inb : ∀ (i : grid1.Coords) (v276 : BitVec 32) (v282 : BitVec 32) (k1_hw2 : k1_chk2 i v276 v282) (k1_t3 : Fin (k1_t3_loop i v276 v282).trips), ∀ (k1_h2 : k1_cond2 i v276 v282 = 1#1), ∀ a, (k1_off12 i v276 v282 k1_t3) a + S1x16.size a ≤ S256x128.size a := fun i v276 v282 k1_hw2 k1_t3 k1_h2 => k1_hw2.1.2.2.2.1 k1_t3 k1_h2
theorem k1_off13_inb : ∀ (i : grid1.Coords) (v276 : BitVec 32) (v282 : BitVec 32) (k1_hw2 : k1_chk2 i v276 v282) (k1_t3 : Fin (k1_t3_loop i v276 v282).trips), ∀ (k1_h2 : k1_cond2 i v276 v282 = 1#1), ∀ a, (k1_off13 i v276 v282 k1_t3) a + S1x16.size a ≤ S256x128.size a := fun i v276 v282 k1_hw2 k1_t3 k1_h2 => k1_hw2.1.2.2.2.2.1 k1_t3 k1_h2
theorem k1_t4_ok : ∀ (i : grid1.Coords) (v276 : BitVec 32) (v282 : BitVec 32) (k1_hw2 : k1_chk2 i v276 v282), ∀ (k1_h2 : k1_cond2 i v276 v282 = 1#1), (k1_t4_loop i v276 v282).OK := fun i v276 v282 k1_hw2 k1_h2 => k1_hw2.1.2.2.2.2.2.1 k1_h2
theorem k1_off14_inb : ∀ (i : grid1.Coords) (v276 : BitVec 32) (v282 : BitVec 32) (k1_hw2 : k1_chk2 i v276 v282) (k1_t4 : Fin (k1_t4_loop i v276 v282).trips), ∀ (k1_h2 : k1_cond2 i v276 v282 = 1#1), ∀ a, (k1_off14 i v276 v282 k1_t4) a + S1x16.size a ≤ S256x128.size a := fun i v276 v282 k1_hw2 k1_t4 k1_h2 => k1_hw2.1.2.2.2.2.2.2.1 k1_t4 k1_h2
theorem k1_off15_inb : ∀ (i : grid1.Coords) (v276 : BitVec 32) (v282 : BitVec 32) (k1_hw2 : k1_chk2 i v276 v282) (k1_t4 : Fin (k1_t4_loop i v276 v282).trips), ∀ (k1_h2 : k1_cond2 i v276 v282 = 1#1), ∀ a, (k1_off15 i v276 v282 k1_t4) a + S1x16.size a ≤ S256x128.size a := fun i v276 v282 k1_hw2 k1_t4 k1_h2 => k1_hw2.1.2.2.2.2.2.2.2.1 k1_t4 k1_h2
theorem k1_off16_inb : ∀ (i : grid1.Coords) (v276 : BitVec 32) (v282 : BitVec 32) (k1_hw2 : k1_chk2 i v276 v282) (k1_t4 : Fin (k1_t4_loop i v276 v282).trips), ∀ (k1_h2 : k1_cond2 i v276 v282 = 1#1), ∀ a, (k1_off16 i v276 v282 k1_t4) a + S1x16.size a ≤ S256x128.size a := fun i v276 v282 k1_hw2 k1_t4 k1_h2 => k1_hw2.1.2.2.2.2.2.2.2.2.1 k1_t4 k1_h2
theorem k1_off17_inb : ∀ (i : grid1.Coords) (v276 : BitVec 32) (v282 : BitVec 32) (k1_hw2 : k1_chk2 i v276 v282) (k1_t4 : Fin (k1_t4_loop i v276 v282).trips), ∀ (k1_h2 : k1_cond2 i v276 v282 = 1#1), ∀ a, (k1_off17 i v276 v282 k1_t4) a + S1x16.size a ≤ S256x128.size a := fun i v276 v282 k1_hw2 k1_t4 k1_h2 => k1_hw2.1.2.2.2.2.2.2.2.2.2.1 k1_t4 k1_h2
theorem k1_t67_ok : ∀ (i : grid1.Coords) (v276 : BitVec 32) (v282 : BitVec 32) (k1_hw2 : k1_chk2 i v276 v282), ∀ (k1_h34 : k1_cond34 i v276 v282 = 1#1), (k1_t67_loop i v276 v282).OK := fun i v276 v282 k1_hw2 k1_h34 => k1_hw2.1.2.2.2.2.2.2.2.2.2.2.1 k1_h34
theorem k1_off267_inb : ∀ (i : grid1.Coords) (v276 : BitVec 32) (v282 : BitVec 32) (k1_hw2 : k1_chk2 i v276 v282) (k1_t67 : Fin (k1_t67_loop i v276 v282).trips), ∀ (k1_h34 : k1_cond34 i v276 v282 = 1#1), ∀ a, (k1_off267 i v276 v282 k1_t67) a + S1x16.size a ≤ S256x128.size a := fun i v276 v282 k1_hw2 k1_t67 k1_h34 => k1_hw2.1.2.2.2.2.2.2.2.2.2.2.2.1 k1_t67 k1_h34
theorem k1_off268_inb : ∀ (i : grid1.Coords) (v276 : BitVec 32) (v282 : BitVec 32) (k1_hw2 : k1_chk2 i v276 v282) (k1_t67 : Fin (k1_t67_loop i v276 v282).trips), ∀ (k1_h34 : k1_cond34 i v276 v282 = 1#1), ∀ a, (k1_off268 i v276 v282 k1_t67) a + S1x16.size a ≤ S256x128.size a := fun i v276 v282 k1_hw2 k1_t67 k1_h34 => k1_hw2.1.2.2.2.2.2.2.2.2.2.2.2.2.1 k1_t67 k1_h34
theorem k1_off269_inb : ∀ (i : grid1.Coords) (v276 : BitVec 32) (v282 : BitVec 32) (k1_hw2 : k1_chk2 i v276 v282) (k1_t67 : Fin (k1_t67_loop i v276 v282).trips), ∀ (k1_h34 : k1_cond34 i v276 v282 = 1#1), ∀ a, (k1_off269 i v276 v282 k1_t67) a + S1x16.size a ≤ S256x128.size a := fun i v276 v282 k1_hw2 k1_t67 k1_h34 => k1_hw2.1.2.2.2.2.2.2.2.2.2.2.2.2.2.1 k1_t67 k1_h34
theorem k1_off270_inb : ∀ (i : grid1.Coords) (v276 : BitVec 32) (v282 : BitVec 32) (k1_hw2 : k1_chk2 i v276 v282) (k1_t67 : Fin (k1_t67_loop i v276 v282).trips), ∀ (k1_h34 : k1_cond34 i v276 v282 = 1#1), ∀ a, (k1_off270 i v276 v282 k1_t67) a + S1x16.size a ≤ S256x128.size a := fun i v276 v282 k1_hw2 k1_t67 k1_h34 => k1_hw2.1.2.2.2.2.2.2.2.2.2.2.2.2.2.2.1 k1_t67 k1_h34
theorem k1_t68_ok : ∀ (i : grid1.Coords) (v276 : BitVec 32) (v282 : BitVec 32) (k1_hw2 : k1_chk2 i v276 v282), ∀ (k1_h34 : k1_cond34 i v276 v282 = 1#1), (k1_t68_loop i v276 v282).OK := fun i v276 v282 k1_hw2 k1_h34 => k1_hw2.1.2.2.2.2.2.2.2.2.2.2.2.2.2.2.2.1 k1_h34
theorem k1_off271_inb : ∀ (i : grid1.Coords) (v276 : BitVec 32) (v282 : BitVec 32) (k1_hw2 : k1_chk2 i v276 v282) (k1_t68 : Fin (k1_t68_loop i v276 v282).trips), ∀ (k1_h34 : k1_cond34 i v276 v282 = 1#1), ∀ a, (k1_off271 i v276 v282 k1_t68) a + S1x16.size a ≤ S256x128.size a := fun i v276 v282 k1_hw2 k1_t68 k1_h34 => k1_hw2.1.2.2.2.2.2.2.2.2.2.2.2.2.2.2.2.2.1 k1_t68 k1_h34
theorem k1_off272_inb : ∀ (i : grid1.Coords) (v276 : BitVec 32) (v282 : BitVec 32) (k1_hw2 : k1_chk2 i v276 v282) (k1_t68 : Fin (k1_t68_loop i v276 v282).trips), ∀ (k1_h34 : k1_cond34 i v276 v282 = 1#1), ∀ a, (k1_off272 i v276 v282 k1_t68) a + S1x16.size a ≤ S256x128.size a := fun i v276 v282 k1_hw2 k1_t68 k1_h34 => k1_hw2.1.2.2.2.2.2.2.2.2.2.2.2.2.2.2.2.2.2.1 k1_t68 k1_h34
theorem k1_off273_inb : ∀ (i : grid1.Coords) (v276 : BitVec 32) (v282 : BitVec 32) (k1_hw2 : k1_chk2 i v276 v282) (k1_t68 : Fin (k1_t68_loop i v276 v282).trips), ∀ (k1_h34 : k1_cond34 i v276 v282 = 1#1), ∀ a, (k1_off273 i v276 v282 k1_t68) a + S1x16.size a ≤ S256x128.size a := fun i v276 v282 k1_hw2 k1_t68 k1_h34 => k1_hw2.1.2.2.2.2.2.2.2.2.2.2.2.2.2.2.2.2.2.2.1 k1_t68 k1_h34
theorem k1_off274_inb : ∀ (i : grid1.Coords) (v276 : BitVec 32) (v282 : BitVec 32) (k1_hw2 : k1_chk2 i v276 v282) (k1_t68 : Fin (k1_t68_loop i v276 v282).trips), ∀ (k1_h34 : k1_cond34 i v276 v282 = 1#1), ∀ a, (k1_off274 i v276 v282 k1_t68) a + S1x16.size a ≤ S256x128.size a := fun i v276 v282 k1_hw2 k1_t68 k1_h34 => k1_hw2.1.2.2.2.2.2.2.2.2.2.2.2.2.2.2.2.2.2.2.2.1 k1_t68 k1_h34
theorem k1_t131_ok : ∀ (i : grid1.Coords) (v276 : BitVec 32) (v282 : BitVec 32) (k1_hw2 : k1_chk2 i v276 v282), ∀ (k1_h66 : k1_cond66 i v276 v282 = 1#1), (k1_t131_loop i v276 v282).OK := fun i v276 v282 k1_hw2 k1_h66 => k1_hw2.1.2.2.2.2.2.2.2.2.2.2.2.2.2.2.2.2.2.2.2.2.1 k1_h66
theorem k1_off523_inb : ∀ (i : grid1.Coords) (v276 : BitVec 32) (v282 : BitVec 32) (k1_hw2 : k1_chk2 i v276 v282) (k1_t131 : Fin (k1_t131_loop i v276 v282).trips), ∀ (k1_h66 : k1_cond66 i v276 v282 = 1#1), ∀ a, (k1_off523 i v276 v282 k1_t131) a + S1x16.size a ≤ S256x128.size a := fun i v276 v282 k1_hw2 k1_t131 k1_h66 => k1_hw2.1.2.2.2.2.2.2.2.2.2.2.2.2.2.2.2.2.2.2.2.2.2.1 k1_t131 k1_h66
theorem k1_off524_inb : ∀ (i : grid1.Coords) (v276 : BitVec 32) (v282 : BitVec 32) (k1_hw2 : k1_chk2 i v276 v282) (k1_t131 : Fin (k1_t131_loop i v276 v282).trips), ∀ (k1_h66 : k1_cond66 i v276 v282 = 1#1), ∀ a, (k1_off524 i v276 v282 k1_t131) a + S1x16.size a ≤ S256x128.size a := fun i v276 v282 k1_hw2 k1_t131 k1_h66 => k1_hw2.1.2.2.2.2.2.2.2.2.2.2.2.2.2.2.2.2.2.2.2.2.2.2.1 k1_t131 k1_h66
theorem k1_off525_inb : ∀ (i : grid1.Coords) (v276 : BitVec 32) (v282 : BitVec 32) (k1_hw2 : k1_chk2 i v276 v282) (k1_t131 : Fin (k1_t131_loop i v276 v282).trips), ∀ (k1_h66 : k1_cond66 i v276 v282 = 1#1), ∀ a, (k1_off525 i v276 v282 k1_t131) a + S1x16.size a ≤ S256x128.size a := fun i v276 v282 k1_hw2 k1_t131 k1_h66 => k1_hw2.1.2.2.2.2.2.2.2.2.2.2.2.2.2.2.2.2.2.2.2.2.2.2.2.1 k1_t131 k1_h66
theorem k1_off526_inb : ∀ (i : grid1.Coords) (v276 : BitVec 32) (v282 : BitVec 32) (k1_hw2 : k1_chk2 i v276 v282) (k1_t131 : Fin (k1_t131_loop i v276 v282).trips), ∀ (k1_h66 : k1_cond66 i v276 v282 = 1#1), ∀ a, (k1_off526 i v276 v282 k1_t131) a + S1x16.size a ≤ S256x128.size a := fun i v276 v282 k1_hw2 k1_t131 k1_h66 => k1_hw2.1.2.2.2.2.2.2.2.2.2.2.2.2.2.2.2.2.2.2.2.2.2.2.2.2.1 k1_t131 k1_h66
theorem k1_t132_ok : ∀ (i : grid1.Coords) (v276 : BitVec 32) (v282 : BitVec 32) (k1_hw2 : k1_chk2 i v276 v282), ∀ (k1_h66 : k1_cond66 i v276 v282 = 1#1), (k1_t132_loop i v276 v282).OK := fun i v276 v282 k1_hw2 k1_h66 => k1_hw2.1.2.2.2.2.2.2.2.2.2.2.2.2.2.2.2.2.2.2.2.2.2.2.2.2.2.1 k1_h66
theorem k1_off527_inb : ∀ (i : grid1.Coords) (v276 : BitVec 32) (v282 : BitVec 32) (k1_hw2 : k1_chk2 i v276 v282) (k1_t132 : Fin (k1_t132_loop i v276 v282).trips), ∀ (k1_h66 : k1_cond66 i v276 v282 = 1#1), ∀ a, (k1_off527 i v276 v282 k1_t132) a + S1x16.size a ≤ S256x128.size a := fun i v276 v282 k1_hw2 k1_t132 k1_h66 => k1_hw2.1.2.2.2.2.2.2.2.2.2.2.2.2.2.2.2.2.2.2.2.2.2.2.2.2.2.2.1 k1_t132 k1_h66
theorem k1_off528_inb : ∀ (i : grid1.Coords) (v276 : BitVec 32) (v282 : BitVec 32) (k1_hw2 : k1_chk2 i v276 v282) (k1_t132 : Fin (k1_t132_loop i v276 v282).trips), ∀ (k1_h66 : k1_cond66 i v276 v282 = 1#1), ∀ a, (k1_off528 i v276 v282 k1_t132) a + S1x16.size a ≤ S256x128.size a := fun i v276 v282 k1_hw2 k1_t132 k1_h66 => k1_hw2.1.2.2.2.2.2.2.2.2.2.2.2.2.2.2.2.2.2.2.2.2.2.2.2.2.2.2.2.1 k1_t132 k1_h66
theorem k1_off529_inb : ∀ (i : grid1.Coords) (v276 : BitVec 32) (v282 : BitVec 32) (k1_hw2 : k1_chk2 i v276 v282) (k1_t132 : Fin (k1_t132_loop i v276 v282).trips), ∀ (k1_h66 : k1_cond66 i v276 v282 = 1#1), ∀ a, (k1_off529 i v276 v282 k1_t132) a + S1x16.size a ≤ S256x128.size a := fun i v276 v282 k1_hw2 k1_t132 k1_h66 => k1_hw2.1.2.2.2.2.2.2.2.2.2.2.2.2.2.2.2.2.2.2.2.2.2.2.2.2.2.2.2.2.1 k1_t132 k1_h66
theorem k1_off530_inb : ∀ (i : grid1.Coords) (v276 : BitVec 32) (v282 : BitVec 32) (k1_hw2 : k1_chk2 i v276 v282) (k1_t132 : Fin (k1_t132_loop i v276 v282).trips), ∀ (k1_h66 : k1_cond66 i v276 v282 = 1#1), ∀ a, (k1_off530 i v276 v282 k1_t132) a + S1x16.size a ≤ S256x128.size a := fun i v276 v282 k1_hw2 k1_t132 k1_h66 => k1_hw2.1.2.2.2.2.2.2.2.2.2.2.2.2.2.2.2.2.2.2.2.2.2.2.2.2.2.2.2.2.2.1 k1_t132 k1_h66
theorem k1_t195_ok : ∀ (i : grid1.Coords) (v276 : BitVec 32) (v282 : BitVec 32) (k1_hw2 : k1_chk2 i v276 v282), ∀ (k1_h98 : k1_cond98 i v276 v282 = 1#1), (k1_t195_loop i v276 v282).OK := fun i v276 v282 k1_hw2 k1_h98 => k1_hw2.1.2.2.2.2.2.2.2.2.2.2.2.2.2.2.2.2.2.2.2.2.2.2.2.2.2.2.2.2.2.2.1 k1_h98
theorem k1_off779_inb : ∀ (i : grid1.Coords) (v276 : BitVec 32) (v282 : BitVec 32) (k1_hw2 : k1_chk2 i v276 v282) (k1_t195 : Fin (k1_t195_loop i v276 v282).trips), ∀ (k1_h98 : k1_cond98 i v276 v282 = 1#1), ∀ a, (k1_off779 i v276 v282 k1_t195) a + S1x16.size a ≤ S256x128.size a := fun i v276 v282 k1_hw2 k1_t195 k1_h98 => k1_hw2.1.2.2.2.2.2.2.2.2.2.2.2.2.2.2.2.2.2.2.2.2.2.2.2.2.2.2.2.2.2.2.2 k1_t195 k1_h98
theorem k1_off780_inb : ∀ (i : grid1.Coords) (v276 : BitVec 32) (v282 : BitVec 32) (k1_hw2 : k1_chk2 i v276 v282) (k1_t195 : Fin (k1_t195_loop i v276 v282).trips), ∀ (k1_h98 : k1_cond98 i v276 v282 = 1#1), ∀ a, (k1_off780 i v276 v282 k1_t195) a + S1x16.size a ≤ S256x128.size a := fun i v276 v282 k1_hw2 k1_t195 k1_h98 => k1_hw2.2.1 k1_t195 k1_h98
theorem k1_off781_inb : ∀ (i : grid1.Coords) (v276 : BitVec 32) (v282 : BitVec 32) (k1_hw2 : k1_chk2 i v276 v282) (k1_t195 : Fin (k1_t195_loop i v276 v282).trips), ∀ (k1_h98 : k1_cond98 i v276 v282 = 1#1), ∀ a, (k1_off781 i v276 v282 k1_t195) a + S1x16.size a ≤ S256x128.size a := fun i v276 v282 k1_hw2 k1_t195 k1_h98 => k1_hw2.2.2.1 k1_t195 k1_h98
theorem k1_off782_inb : ∀ (i : grid1.Coords) (v276 : BitVec 32) (v282 : BitVec 32) (k1_hw2 : k1_chk2 i v276 v282) (k1_t195 : Fin (k1_t195_loop i v276 v282).trips), ∀ (k1_h98 : k1_cond98 i v276 v282 = 1#1), ∀ a, (k1_off782 i v276 v282 k1_t195) a + S1x16.size a ≤ S256x128.size a := fun i v276 v282 k1_hw2 k1_t195 k1_h98 => k1_hw2.2.2.2.1 k1_t195 k1_h98
theorem k1_t196_ok : ∀ (i : grid1.Coords) (v276 : BitVec 32) (v282 : BitVec 32) (k1_hw2 : k1_chk2 i v276 v282), ∀ (k1_h98 : k1_cond98 i v276 v282 = 1#1), (k1_t196_loop i v276 v282).OK := fun i v276 v282 k1_hw2 k1_h98 => k1_hw2.2.2.2.2.1 k1_h98
theorem k1_off783_inb : ∀ (i : grid1.Coords) (v276 : BitVec 32) (v282 : BitVec 32) (k1_hw2 : k1_chk2 i v276 v282) (k1_t196 : Fin (k1_t196_loop i v276 v282).trips), ∀ (k1_h98 : k1_cond98 i v276 v282 = 1#1), ∀ a, (k1_off783 i v276 v282 k1_t196) a + S1x16.size a ≤ S256x128.size a := fun i v276 v282 k1_hw2 k1_t196 k1_h98 => k1_hw2.2.2.2.2.2.1 k1_t196 k1_h98
theorem k1_off784_inb : ∀ (i : grid1.Coords) (v276 : BitVec 32) (v282 : BitVec 32) (k1_hw2 : k1_chk2 i v276 v282) (k1_t196 : Fin (k1_t196_loop i v276 v282).trips), ∀ (k1_h98 : k1_cond98 i v276 v282 = 1#1), ∀ a, (k1_off784 i v276 v282 k1_t196) a + S1x16.size a ≤ S256x128.size a := fun i v276 v282 k1_hw2 k1_t196 k1_h98 => k1_hw2.2.2.2.2.2.2.1 k1_t196 k1_h98
theorem k1_off785_inb : ∀ (i : grid1.Coords) (v276 : BitVec 32) (v282 : BitVec 32) (k1_hw2 : k1_chk2 i v276 v282) (k1_t196 : Fin (k1_t196_loop i v276 v282).trips), ∀ (k1_h98 : k1_cond98 i v276 v282 = 1#1), ∀ a, (k1_off785 i v276 v282 k1_t196) a + S1x16.size a ≤ S256x128.size a := fun i v276 v282 k1_hw2 k1_t196 k1_h98 => k1_hw2.2.2.2.2.2.2.2.1 k1_t196 k1_h98
theorem k1_off786_inb : ∀ (i : grid1.Coords) (v276 : BitVec 32) (v282 : BitVec 32) (k1_hw2 : k1_chk2 i v276 v282) (k1_t196 : Fin (k1_t196_loop i v276 v282).trips), ∀ (k1_h98 : k1_cond98 i v276 v282 = 1#1), ∀ a, (k1_off786 i v276 v282 k1_t196) a + S1x16.size a ≤ S256x128.size a := fun i v276 v282 k1_hw2 k1_t196 k1_h98 => k1_hw2.2.2.2.2.2.2.2.2 k1_t196 k1_h98

@[reducible] def k1_t197_loop (i : grid1.Coords) (v288 : BitVec 32) (v293 : BitVec 32) : Scf.Loop 32 :=
  let c256_i32_980 : BitVec 32 := 256#32
  let c0_i32_979 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let c256_i32_983 : BitVec 32 := 256#32
  let c0_i32_982 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c768_i32_981 : BitVec 32 := 768#32
  let v1526 : BitVec 32 := Scalar.subi v296 c768_i32_981
  let v1527 : BitVec 32 := Scalar.maxsi c0_i32_982 v1526
  let v1528 : BitVec 32 := Scalar.minsi c256_i32_983 v1527
  let v1805 : BitVec 32 := Scalar.subi v1528 v1525
  let c1_i32_1196 : BitVec 32 := 1#32
  let v1807 : BitVec 32 := Scalar.divsi v1805 c1_i32_1196
  let v1808 : BitVec 32 := Scalar.muli v1807 c1_i32_1196
  let v1809 : BitVec 32 := Scalar.addi v1525 v1808
  let c1_i32_1197 : BitVec 32 := 1#32
  ⟨v1525, v1809, c1_i32_1197⟩
def k1_cond99 (i : grid1.Coords) (v288 : BitVec 32) (v293 : BitVec 32) : BitVec 1 :=
  let c256_i32_983 : BitVec 32 := 256#32
  let c0_i32_982 : BitVec 32 := 0#32
  let c1024_i32_124 : BitVec 32 := 1024#32
  let c0_i32_123 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v294 : BitVec 32 := Scalar.subi v293 v3
  let v295 : BitVec 32 := Scalar.maxsi c0_i32_123 v294
  let v296 : BitVec 32 := Scalar.minsi c1024_i32_124 v295
  let c768_i32_981 : BitVec 32 := 768#32
  let v1526 : BitVec 32 := Scalar.subi v296 c768_i32_981
  let v1527 : BitVec 32 := Scalar.maxsi c0_i32_982 v1526
  let v1528 : BitVec 32 := Scalar.minsi c256_i32_983 v1527
  let c256_i32_980 : BitVec 32 := 256#32
  let c0_i32_979 : BitVec 32 := 0#32
  let c1024_i32_122 : BitVec 32 := 1024#32
  let c0_i32_121 : BitVec 32 := 0#32
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let v1529 : BitVec 1 := Scalar.cmpi .sgt v1528 v1525
  let v1530 : BitVec 32 := Scalar.extui v1529
  let c0_i32_984 : BitVec 32 := 0#32
  let v1531 : BitVec 1 := Scalar.cmpi .ne v1530 c0_i32_984
  v1531

def k1_off787 (i : grid1.Coords) (v288 : BitVec 32) (v293 : BitVec 32) (k1_t197 : Fin (k1_t197_loop i v288 v293).trips) : Fin 2 → Nat :=
  let c256_i32_980 : BitVec 32 := 256#32
  let c0_i32_979 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let c1_i32_1197 : BitVec 32 := 1#32
  let arg13 : BitVec 32 := Scf.iv v1525 c1_i32_1197 k1_t197
  let v1828 : Index := Scalar.indexCast arg13
  let c0_1207 : Index := 0#32
  ![v1828.toNat, 0]
def k1_off788 (i : grid1.Coords) (v288 : BitVec 32) (v293 : BitVec 32) (k1_t197 : Fin (k1_t197_loop i v288 v293).trips) : Fin 2 → Nat :=
  let c256_i32_980 : BitVec 32 := 256#32
  let c0_i32_979 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let c1_i32_1197 : BitVec 32 := 1#32
  let arg13 : BitVec 32 := Scf.iv v1525 c1_i32_1197 k1_t197
  let v1832 : Index := Scalar.indexCast arg13
  let c16_1208 : Index := 16#32
  ![v1832.toNat, 16]
def k1_off789 (i : grid1.Coords) (v288 : BitVec 32) (v293 : BitVec 32) (k1_t197 : Fin (k1_t197_loop i v288 v293).trips) : Fin 2 → Nat :=
  let c256_i32_980 : BitVec 32 := 256#32
  let c0_i32_979 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let c1_i32_1197 : BitVec 32 := 1#32
  let arg13 : BitVec 32 := Scf.iv v1525 c1_i32_1197 k1_t197
  let v1836 : Index := Scalar.indexCast arg13
  let c32_1209 : Index := 32#32
  ![v1836.toNat, 32]
def k1_off790 (i : grid1.Coords) (v288 : BitVec 32) (v293 : BitVec 32) (k1_t197 : Fin (k1_t197_loop i v288 v293).trips) : Fin 2 → Nat :=
  let c256_i32_980 : BitVec 32 := 256#32
  let c0_i32_979 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let c1_i32_1197 : BitVec 32 := 1#32
  let arg13 : BitVec 32 := Scf.iv v1525 c1_i32_1197 k1_t197
  let v1840 : Index := Scalar.indexCast arg13
  let c48_1210 : Index := 48#32
  ![v1840.toNat, 48]
@[reducible] def k1_t198_loop (i : grid1.Coords) (v288 : BitVec 32) (v293 : BitVec 32) : Scf.Loop 32 :=
  let c256_i32_980 : BitVec 32 := 256#32
  let c0_i32_979 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let c256_i32_983 : BitVec 32 := 256#32
  let c0_i32_982 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c768_i32_981 : BitVec 32 := 768#32
  let v1526 : BitVec 32 := Scalar.subi v296 c768_i32_981
  let v1527 : BitVec 32 := Scalar.maxsi c0_i32_982 v1526
  let v1528 : BitVec 32 := Scalar.minsi c256_i32_983 v1527
  let v1805 : BitVec 32 := Scalar.subi v1528 v1525
  let c1_i32_1196 : BitVec 32 := 1#32
  let v1807 : BitVec 32 := Scalar.divsi v1805 c1_i32_1196
  let v1808 : BitVec 32 := Scalar.muli v1807 c1_i32_1196
  let v1809 : BitVec 32 := Scalar.addi v1525 v1808
  let v1806 : BitVec 32 := Scalar.addi v1525 v1805
  let c1_i32_1198 : BitVec 32 := 1#32
  ⟨v1809, v1806, c1_i32_1198⟩
def k1_off791 (i : grid1.Coords) (v288 : BitVec 32) (v293 : BitVec 32) (k1_t198 : Fin (k1_t198_loop i v288 v293).trips) : Fin 2 → Nat :=
  let c256_i32_980 : BitVec 32 := 256#32
  let c0_i32_979 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let c256_i32_983 : BitVec 32 := 256#32
  let c0_i32_982 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c768_i32_981 : BitVec 32 := 768#32
  let v1526 : BitVec 32 := Scalar.subi v296 c768_i32_981
  let v1527 : BitVec 32 := Scalar.maxsi c0_i32_982 v1526
  let v1528 : BitVec 32 := Scalar.minsi c256_i32_983 v1527
  let v1805 : BitVec 32 := Scalar.subi v1528 v1525
  let c1_i32_1196 : BitVec 32 := 1#32
  let v1807 : BitVec 32 := Scalar.divsi v1805 c1_i32_1196
  let v1808 : BitVec 32 := Scalar.muli v1807 c1_i32_1196
  let v1809 : BitVec 32 := Scalar.addi v1525 v1808
  let c1_i32_1198 : BitVec 32 := 1#32
  let arg13 : BitVec 32 := Scf.iv v1809 c1_i32_1198 k1_t198
  let v1828 : Index := Scalar.indexCast arg13
  let c0_1207 : Index := 0#32
  ![v1828.toNat, 0]
def k1_off792 (i : grid1.Coords) (v288 : BitVec 32) (v293 : BitVec 32) (k1_t198 : Fin (k1_t198_loop i v288 v293).trips) : Fin 2 → Nat :=
  let c256_i32_980 : BitVec 32 := 256#32
  let c0_i32_979 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let c256_i32_983 : BitVec 32 := 256#32
  let c0_i32_982 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c768_i32_981 : BitVec 32 := 768#32
  let v1526 : BitVec 32 := Scalar.subi v296 c768_i32_981
  let v1527 : BitVec 32 := Scalar.maxsi c0_i32_982 v1526
  let v1528 : BitVec 32 := Scalar.minsi c256_i32_983 v1527
  let v1805 : BitVec 32 := Scalar.subi v1528 v1525
  let c1_i32_1196 : BitVec 32 := 1#32
  let v1807 : BitVec 32 := Scalar.divsi v1805 c1_i32_1196
  let v1808 : BitVec 32 := Scalar.muli v1807 c1_i32_1196
  let v1809 : BitVec 32 := Scalar.addi v1525 v1808
  let c1_i32_1198 : BitVec 32 := 1#32
  let arg13 : BitVec 32 := Scf.iv v1809 c1_i32_1198 k1_t198
  let v1832 : Index := Scalar.indexCast arg13
  let c16_1208 : Index := 16#32
  ![v1832.toNat, 16]
def k1_off793 (i : grid1.Coords) (v288 : BitVec 32) (v293 : BitVec 32) (k1_t198 : Fin (k1_t198_loop i v288 v293).trips) : Fin 2 → Nat :=
  let c256_i32_980 : BitVec 32 := 256#32
  let c0_i32_979 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let c256_i32_983 : BitVec 32 := 256#32
  let c0_i32_982 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c768_i32_981 : BitVec 32 := 768#32
  let v1526 : BitVec 32 := Scalar.subi v296 c768_i32_981
  let v1527 : BitVec 32 := Scalar.maxsi c0_i32_982 v1526
  let v1528 : BitVec 32 := Scalar.minsi c256_i32_983 v1527
  let v1805 : BitVec 32 := Scalar.subi v1528 v1525
  let c1_i32_1196 : BitVec 32 := 1#32
  let v1807 : BitVec 32 := Scalar.divsi v1805 c1_i32_1196
  let v1808 : BitVec 32 := Scalar.muli v1807 c1_i32_1196
  let v1809 : BitVec 32 := Scalar.addi v1525 v1808
  let c1_i32_1198 : BitVec 32 := 1#32
  let arg13 : BitVec 32 := Scf.iv v1809 c1_i32_1198 k1_t198
  let v1836 : Index := Scalar.indexCast arg13
  let c32_1209 : Index := 32#32
  ![v1836.toNat, 32]
def k1_off794 (i : grid1.Coords) (v288 : BitVec 32) (v293 : BitVec 32) (k1_t198 : Fin (k1_t198_loop i v288 v293).trips) : Fin 2 → Nat :=
  let c256_i32_980 : BitVec 32 := 256#32
  let c0_i32_979 : BitVec 32 := 0#32
  let c1024_i32_122 : BitVec 32 := 1024#32
  let c0_i32_121 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v289 : BitVec 32 := Scalar.subi v288 v3
  let v290 : BitVec 32 := Scalar.maxsi c0_i32_121 v289
  let v291 : BitVec 32 := Scalar.minsi c1024_i32_122 v290
  let c768_i32_978 : BitVec 32 := 768#32
  let v1523 : BitVec 32 := Scalar.subi v291 c768_i32_978
  let v1524 : BitVec 32 := Scalar.maxsi c0_i32_979 v1523
  let v1525 : BitVec 32 := Scalar.minsi c256_i32_980 v1524
  let c256_i32_983 : BitVec 32 := 256#32
  let c0_i32_982 : BitVec 32 := 0#32
  let c1024_i32_124 : BitVec 32 := 1024#32
  let c0_i32_123 : BitVec 32 := 0#32
  let v294 : BitVec 32 := Scalar.subi v293 v3
  let v295 : BitVec 32 := Scalar.maxsi c0_i32_123 v294
  let v296 : BitVec 32 := Scalar.minsi c1024_i32_124 v295
  let c768_i32_981 : BitVec 32 := 768#32
  let v1526 : BitVec 32 := Scalar.subi v296 c768_i32_981
  let v1527 : BitVec 32 := Scalar.maxsi c0_i32_982 v1526
  let v1528 : BitVec 32 := Scalar.minsi c256_i32_983 v1527
  let v1805 : BitVec 32 := Scalar.subi v1528 v1525
  let c1_i32_1196 : BitVec 32 := 1#32
  let v1807 : BitVec 32 := Scalar.divsi v1805 c1_i32_1196
  let v1808 : BitVec 32 := Scalar.muli v1807 c1_i32_1196
  let v1809 : BitVec 32 := Scalar.addi v1525 v1808
  let c1_i32_1198 : BitVec 32 := 1#32
  let arg13 : BitVec 32 := Scf.iv v1809 c1_i32_1198 k1_t198
  let v1840 : Index := Scalar.indexCast arg13
  let c48_1210 : Index := 48#32
  ![v1840.toNat, 48]

def k1_chk3_0 (i : grid1.Coords) (v288 : BitVec 32) (v293 : BitVec 32) : Prop :=
  (∀ (k1_h3 : k1_cond3 i v288 v293 = 1#1), (k1_t5_loop i v288 v293).OK) ∧
  (∀ k1_t5 : Fin (k1_t5_loop i v288 v293).trips, ∀ (k1_h3 : k1_cond3 i v288 v293 = 1#1), ∀ a, (k1_off18 i v288 v293 k1_t5) a + S1x16.size a ≤ S256x128.size a) ∧
  (∀ k1_t5 : Fin (k1_t5_loop i v288 v293).trips, ∀ (k1_h3 : k1_cond3 i v288 v293 = 1#1), ∀ a, (k1_off19 i v288 v293 k1_t5) a + S1x16.size a ≤ S256x128.size a) ∧
  (∀ k1_t5 : Fin (k1_t5_loop i v288 v293).trips, ∀ (k1_h3 : k1_cond3 i v288 v293 = 1#1), ∀ a, (k1_off20 i v288 v293 k1_t5) a + S1x16.size a ≤ S256x128.size a) ∧
  (∀ k1_t5 : Fin (k1_t5_loop i v288 v293).trips, ∀ (k1_h3 : k1_cond3 i v288 v293 = 1#1), ∀ a, (k1_off21 i v288 v293 k1_t5) a + S1x16.size a ≤ S256x128.size a) ∧
  (∀ (k1_h3 : k1_cond3 i v288 v293 = 1#1), (k1_t6_loop i v288 v293).OK) ∧
  (∀ k1_t6 : Fin (k1_t6_loop i v288 v293).trips, ∀ (k1_h3 : k1_cond3 i v288 v293 = 1#1), ∀ a, (k1_off22 i v288 v293 k1_t6) a + S1x16.size a ≤ S256x128.size a) ∧
  (∀ k1_t6 : Fin (k1_t6_loop i v288 v293).trips, ∀ (k1_h3 : k1_cond3 i v288 v293 = 1#1), ∀ a, (k1_off23 i v288 v293 k1_t6) a + S1x16.size a ≤ S256x128.size a) ∧
  (∀ k1_t6 : Fin (k1_t6_loop i v288 v293).trips, ∀ (k1_h3 : k1_cond3 i v288 v293 = 1#1), ∀ a, (k1_off24 i v288 v293 k1_t6) a + S1x16.size a ≤ S256x128.size a) ∧
  (∀ k1_t6 : Fin (k1_t6_loop i v288 v293).trips, ∀ (k1_h3 : k1_cond3 i v288 v293 = 1#1), ∀ a, (k1_off25 i v288 v293 k1_t6) a + S1x16.size a ≤ S256x128.size a) ∧
  (∀ (k1_h35 : k1_cond35 i v288 v293 = 1#1), (k1_t69_loop i v288 v293).OK) ∧
  (∀ k1_t69 : Fin (k1_t69_loop i v288 v293).trips, ∀ (k1_h35 : k1_cond35 i v288 v293 = 1#1), ∀ a, (k1_off275 i v288 v293 k1_t69) a + S1x16.size a ≤ S256x128.size a) ∧
  (∀ k1_t69 : Fin (k1_t69_loop i v288 v293).trips, ∀ (k1_h35 : k1_cond35 i v288 v293 = 1#1), ∀ a, (k1_off276 i v288 v293 k1_t69) a + S1x16.size a ≤ S256x128.size a) ∧
  (∀ k1_t69 : Fin (k1_t69_loop i v288 v293).trips, ∀ (k1_h35 : k1_cond35 i v288 v293 = 1#1), ∀ a, (k1_off277 i v288 v293 k1_t69) a + S1x16.size a ≤ S256x128.size a) ∧
  (∀ k1_t69 : Fin (k1_t69_loop i v288 v293).trips, ∀ (k1_h35 : k1_cond35 i v288 v293 = 1#1), ∀ a, (k1_off278 i v288 v293 k1_t69) a + S1x16.size a ≤ S256x128.size a) ∧
  (∀ (k1_h35 : k1_cond35 i v288 v293 = 1#1), (k1_t70_loop i v288 v293).OK) ∧
  (∀ k1_t70 : Fin (k1_t70_loop i v288 v293).trips, ∀ (k1_h35 : k1_cond35 i v288 v293 = 1#1), ∀ a, (k1_off279 i v288 v293 k1_t70) a + S1x16.size a ≤ S256x128.size a) ∧
  (∀ k1_t70 : Fin (k1_t70_loop i v288 v293).trips, ∀ (k1_h35 : k1_cond35 i v288 v293 = 1#1), ∀ a, (k1_off280 i v288 v293 k1_t70) a + S1x16.size a ≤ S256x128.size a) ∧
  (∀ k1_t70 : Fin (k1_t70_loop i v288 v293).trips, ∀ (k1_h35 : k1_cond35 i v288 v293 = 1#1), ∀ a, (k1_off281 i v288 v293 k1_t70) a + S1x16.size a ≤ S256x128.size a) ∧
  (∀ k1_t70 : Fin (k1_t70_loop i v288 v293).trips, ∀ (k1_h35 : k1_cond35 i v288 v293 = 1#1), ∀ a, (k1_off282 i v288 v293 k1_t70) a + S1x16.size a ≤ S256x128.size a) ∧
  (∀ (k1_h67 : k1_cond67 i v288 v293 = 1#1), (k1_t133_loop i v288 v293).OK) ∧
  (∀ k1_t133 : Fin (k1_t133_loop i v288 v293).trips, ∀ (k1_h67 : k1_cond67 i v288 v293 = 1#1), ∀ a, (k1_off531 i v288 v293 k1_t133) a + S1x16.size a ≤ S256x128.size a) ∧
  (∀ k1_t133 : Fin (k1_t133_loop i v288 v293).trips, ∀ (k1_h67 : k1_cond67 i v288 v293 = 1#1), ∀ a, (k1_off532 i v288 v293 k1_t133) a + S1x16.size a ≤ S256x128.size a) ∧
  (∀ k1_t133 : Fin (k1_t133_loop i v288 v293).trips, ∀ (k1_h67 : k1_cond67 i v288 v293 = 1#1), ∀ a, (k1_off533 i v288 v293 k1_t133) a + S1x16.size a ≤ S256x128.size a) ∧
  (∀ k1_t133 : Fin (k1_t133_loop i v288 v293).trips, ∀ (k1_h67 : k1_cond67 i v288 v293 = 1#1), ∀ a, (k1_off534 i v288 v293 k1_t133) a + S1x16.size a ≤ S256x128.size a) ∧
  (∀ (k1_h67 : k1_cond67 i v288 v293 = 1#1), (k1_t134_loop i v288 v293).OK) ∧
  (∀ k1_t134 : Fin (k1_t134_loop i v288 v293).trips, ∀ (k1_h67 : k1_cond67 i v288 v293 = 1#1), ∀ a, (k1_off535 i v288 v293 k1_t134) a + S1x16.size a ≤ S256x128.size a) ∧
  (∀ k1_t134 : Fin (k1_t134_loop i v288 v293).trips, ∀ (k1_h67 : k1_cond67 i v288 v293 = 1#1), ∀ a, (k1_off536 i v288 v293 k1_t134) a + S1x16.size a ≤ S256x128.size a) ∧
  (∀ k1_t134 : Fin (k1_t134_loop i v288 v293).trips, ∀ (k1_h67 : k1_cond67 i v288 v293 = 1#1), ∀ a, (k1_off537 i v288 v293 k1_t134) a + S1x16.size a ≤ S256x128.size a) ∧
  (∀ k1_t134 : Fin (k1_t134_loop i v288 v293).trips, ∀ (k1_h67 : k1_cond67 i v288 v293 = 1#1), ∀ a, (k1_off538 i v288 v293 k1_t134) a + S1x16.size a ≤ S256x128.size a) ∧
  (∀ (k1_h99 : k1_cond99 i v288 v293 = 1#1), (k1_t197_loop i v288 v293).OK) ∧
  (∀ k1_t197 : Fin (k1_t197_loop i v288 v293).trips, ∀ (k1_h99 : k1_cond99 i v288 v293 = 1#1), ∀ a, (k1_off787 i v288 v293 k1_t197) a + S1x16.size a ≤ S256x128.size a)
def k1_chk3_1 (i : grid1.Coords) (v288 : BitVec 32) (v293 : BitVec 32) : Prop :=
  (∀ k1_t197 : Fin (k1_t197_loop i v288 v293).trips, ∀ (k1_h99 : k1_cond99 i v288 v293 = 1#1), ∀ a, (k1_off788 i v288 v293 k1_t197) a + S1x16.size a ≤ S256x128.size a) ∧
  (∀ k1_t197 : Fin (k1_t197_loop i v288 v293).trips, ∀ (k1_h99 : k1_cond99 i v288 v293 = 1#1), ∀ a, (k1_off789 i v288 v293 k1_t197) a + S1x16.size a ≤ S256x128.size a) ∧
  (∀ k1_t197 : Fin (k1_t197_loop i v288 v293).trips, ∀ (k1_h99 : k1_cond99 i v288 v293 = 1#1), ∀ a, (k1_off790 i v288 v293 k1_t197) a + S1x16.size a ≤ S256x128.size a) ∧
  (∀ (k1_h99 : k1_cond99 i v288 v293 = 1#1), (k1_t198_loop i v288 v293).OK) ∧
  (∀ k1_t198 : Fin (k1_t198_loop i v288 v293).trips, ∀ (k1_h99 : k1_cond99 i v288 v293 = 1#1), ∀ a, (k1_off791 i v288 v293 k1_t198) a + S1x16.size a ≤ S256x128.size a) ∧
  (∀ k1_t198 : Fin (k1_t198_loop i v288 v293).trips, ∀ (k1_h99 : k1_cond99 i v288 v293 = 1#1), ∀ a, (k1_off792 i v288 v293 k1_t198) a + S1x16.size a ≤ S256x128.size a) ∧
  (∀ k1_t198 : Fin (k1_t198_loop i v288 v293).trips, ∀ (k1_h99 : k1_cond99 i v288 v293 = 1#1), ∀ a, (k1_off793 i v288 v293 k1_t198) a + S1x16.size a ≤ S256x128.size a) ∧
  (∀ k1_t198 : Fin (k1_t198_loop i v288 v293).trips, ∀ (k1_h99 : k1_cond99 i v288 v293 = 1#1), ∀ a, (k1_off794 i v288 v293 k1_t198) a + S1x16.size a ≤ S256x128.size a)
def k1_chk3 (i : grid1.Coords) (v288 : BitVec 32) (v293 : BitVec 32) : Prop :=
  k1_chk3_0 i v288 v293 ∧
  k1_chk3_1 i v288 v293
theorem k1_t5_ok : ∀ (i : grid1.Coords) (v288 : BitVec 32) (v293 : BitVec 32) (k1_hw3 : k1_chk3 i v288 v293), ∀ (k1_h3 : k1_cond3 i v288 v293 = 1#1), (k1_t5_loop i v288 v293).OK := fun i v288 v293 k1_hw3 k1_h3 => k1_hw3.1.1 k1_h3
theorem k1_off18_inb : ∀ (i : grid1.Coords) (v288 : BitVec 32) (v293 : BitVec 32) (k1_hw3 : k1_chk3 i v288 v293) (k1_t5 : Fin (k1_t5_loop i v288 v293).trips), ∀ (k1_h3 : k1_cond3 i v288 v293 = 1#1), ∀ a, (k1_off18 i v288 v293 k1_t5) a + S1x16.size a ≤ S256x128.size a := fun i v288 v293 k1_hw3 k1_t5 k1_h3 => k1_hw3.1.2.1 k1_t5 k1_h3
theorem k1_off19_inb : ∀ (i : grid1.Coords) (v288 : BitVec 32) (v293 : BitVec 32) (k1_hw3 : k1_chk3 i v288 v293) (k1_t5 : Fin (k1_t5_loop i v288 v293).trips), ∀ (k1_h3 : k1_cond3 i v288 v293 = 1#1), ∀ a, (k1_off19 i v288 v293 k1_t5) a + S1x16.size a ≤ S256x128.size a := fun i v288 v293 k1_hw3 k1_t5 k1_h3 => k1_hw3.1.2.2.1 k1_t5 k1_h3
theorem k1_off20_inb : ∀ (i : grid1.Coords) (v288 : BitVec 32) (v293 : BitVec 32) (k1_hw3 : k1_chk3 i v288 v293) (k1_t5 : Fin (k1_t5_loop i v288 v293).trips), ∀ (k1_h3 : k1_cond3 i v288 v293 = 1#1), ∀ a, (k1_off20 i v288 v293 k1_t5) a + S1x16.size a ≤ S256x128.size a := fun i v288 v293 k1_hw3 k1_t5 k1_h3 => k1_hw3.1.2.2.2.1 k1_t5 k1_h3
theorem k1_off21_inb : ∀ (i : grid1.Coords) (v288 : BitVec 32) (v293 : BitVec 32) (k1_hw3 : k1_chk3 i v288 v293) (k1_t5 : Fin (k1_t5_loop i v288 v293).trips), ∀ (k1_h3 : k1_cond3 i v288 v293 = 1#1), ∀ a, (k1_off21 i v288 v293 k1_t5) a + S1x16.size a ≤ S256x128.size a := fun i v288 v293 k1_hw3 k1_t5 k1_h3 => k1_hw3.1.2.2.2.2.1 k1_t5 k1_h3
theorem k1_t6_ok : ∀ (i : grid1.Coords) (v288 : BitVec 32) (v293 : BitVec 32) (k1_hw3 : k1_chk3 i v288 v293), ∀ (k1_h3 : k1_cond3 i v288 v293 = 1#1), (k1_t6_loop i v288 v293).OK := fun i v288 v293 k1_hw3 k1_h3 => k1_hw3.1.2.2.2.2.2.1 k1_h3
theorem k1_off22_inb : ∀ (i : grid1.Coords) (v288 : BitVec 32) (v293 : BitVec 32) (k1_hw3 : k1_chk3 i v288 v293) (k1_t6 : Fin (k1_t6_loop i v288 v293).trips), ∀ (k1_h3 : k1_cond3 i v288 v293 = 1#1), ∀ a, (k1_off22 i v288 v293 k1_t6) a + S1x16.size a ≤ S256x128.size a := fun i v288 v293 k1_hw3 k1_t6 k1_h3 => k1_hw3.1.2.2.2.2.2.2.1 k1_t6 k1_h3
theorem k1_off23_inb : ∀ (i : grid1.Coords) (v288 : BitVec 32) (v293 : BitVec 32) (k1_hw3 : k1_chk3 i v288 v293) (k1_t6 : Fin (k1_t6_loop i v288 v293).trips), ∀ (k1_h3 : k1_cond3 i v288 v293 = 1#1), ∀ a, (k1_off23 i v288 v293 k1_t6) a + S1x16.size a ≤ S256x128.size a := fun i v288 v293 k1_hw3 k1_t6 k1_h3 => k1_hw3.1.2.2.2.2.2.2.2.1 k1_t6 k1_h3
theorem k1_off24_inb : ∀ (i : grid1.Coords) (v288 : BitVec 32) (v293 : BitVec 32) (k1_hw3 : k1_chk3 i v288 v293) (k1_t6 : Fin (k1_t6_loop i v288 v293).trips), ∀ (k1_h3 : k1_cond3 i v288 v293 = 1#1), ∀ a, (k1_off24 i v288 v293 k1_t6) a + S1x16.size a ≤ S256x128.size a := fun i v288 v293 k1_hw3 k1_t6 k1_h3 => k1_hw3.1.2.2.2.2.2.2.2.2.1 k1_t6 k1_h3
theorem k1_off25_inb : ∀ (i : grid1.Coords) (v288 : BitVec 32) (v293 : BitVec 32) (k1_hw3 : k1_chk3 i v288 v293) (k1_t6 : Fin (k1_t6_loop i v288 v293).trips), ∀ (k1_h3 : k1_cond3 i v288 v293 = 1#1), ∀ a, (k1_off25 i v288 v293 k1_t6) a + S1x16.size a ≤ S256x128.size a := fun i v288 v293 k1_hw3 k1_t6 k1_h3 => k1_hw3.1.2.2.2.2.2.2.2.2.2.1 k1_t6 k1_h3
theorem k1_t69_ok : ∀ (i : grid1.Coords) (v288 : BitVec 32) (v293 : BitVec 32) (k1_hw3 : k1_chk3 i v288 v293), ∀ (k1_h35 : k1_cond35 i v288 v293 = 1#1), (k1_t69_loop i v288 v293).OK := fun i v288 v293 k1_hw3 k1_h35 => k1_hw3.1.2.2.2.2.2.2.2.2.2.2.1 k1_h35
theorem k1_off275_inb : ∀ (i : grid1.Coords) (v288 : BitVec 32) (v293 : BitVec 32) (k1_hw3 : k1_chk3 i v288 v293) (k1_t69 : Fin (k1_t69_loop i v288 v293).trips), ∀ (k1_h35 : k1_cond35 i v288 v293 = 1#1), ∀ a, (k1_off275 i v288 v293 k1_t69) a + S1x16.size a ≤ S256x128.size a := fun i v288 v293 k1_hw3 k1_t69 k1_h35 => k1_hw3.1.2.2.2.2.2.2.2.2.2.2.2.1 k1_t69 k1_h35
theorem k1_off276_inb : ∀ (i : grid1.Coords) (v288 : BitVec 32) (v293 : BitVec 32) (k1_hw3 : k1_chk3 i v288 v293) (k1_t69 : Fin (k1_t69_loop i v288 v293).trips), ∀ (k1_h35 : k1_cond35 i v288 v293 = 1#1), ∀ a, (k1_off276 i v288 v293 k1_t69) a + S1x16.size a ≤ S256x128.size a := fun i v288 v293 k1_hw3 k1_t69 k1_h35 => k1_hw3.1.2.2.2.2.2.2.2.2.2.2.2.2.1 k1_t69 k1_h35
theorem k1_off277_inb : ∀ (i : grid1.Coords) (v288 : BitVec 32) (v293 : BitVec 32) (k1_hw3 : k1_chk3 i v288 v293) (k1_t69 : Fin (k1_t69_loop i v288 v293).trips), ∀ (k1_h35 : k1_cond35 i v288 v293 = 1#1), ∀ a, (k1_off277 i v288 v293 k1_t69) a + S1x16.size a ≤ S256x128.size a := fun i v288 v293 k1_hw3 k1_t69 k1_h35 => k1_hw3.1.2.2.2.2.2.2.2.2.2.2.2.2.2.1 k1_t69 k1_h35
theorem k1_off278_inb : ∀ (i : grid1.Coords) (v288 : BitVec 32) (v293 : BitVec 32) (k1_hw3 : k1_chk3 i v288 v293) (k1_t69 : Fin (k1_t69_loop i v288 v293).trips), ∀ (k1_h35 : k1_cond35 i v288 v293 = 1#1), ∀ a, (k1_off278 i v288 v293 k1_t69) a + S1x16.size a ≤ S256x128.size a := fun i v288 v293 k1_hw3 k1_t69 k1_h35 => k1_hw3.1.2.2.2.2.2.2.2.2.2.2.2.2.2.2.1 k1_t69 k1_h35
theorem k1_t70_ok : ∀ (i : grid1.Coords) (v288 : BitVec 32) (v293 : BitVec 32) (k1_hw3 : k1_chk3 i v288 v293), ∀ (k1_h35 : k1_cond35 i v288 v293 = 1#1), (k1_t70_loop i v288 v293).OK := fun i v288 v293 k1_hw3 k1_h35 => k1_hw3.1.2.2.2.2.2.2.2.2.2.2.2.2.2.2.2.1 k1_h35
theorem k1_off279_inb : ∀ (i : grid1.Coords) (v288 : BitVec 32) (v293 : BitVec 32) (k1_hw3 : k1_chk3 i v288 v293) (k1_t70 : Fin (k1_t70_loop i v288 v293).trips), ∀ (k1_h35 : k1_cond35 i v288 v293 = 1#1), ∀ a, (k1_off279 i v288 v293 k1_t70) a + S1x16.size a ≤ S256x128.size a := fun i v288 v293 k1_hw3 k1_t70 k1_h35 => k1_hw3.1.2.2.2.2.2.2.2.2.2.2.2.2.2.2.2.2.1 k1_t70 k1_h35
theorem k1_off280_inb : ∀ (i : grid1.Coords) (v288 : BitVec 32) (v293 : BitVec 32) (k1_hw3 : k1_chk3 i v288 v293) (k1_t70 : Fin (k1_t70_loop i v288 v293).trips), ∀ (k1_h35 : k1_cond35 i v288 v293 = 1#1), ∀ a, (k1_off280 i v288 v293 k1_t70) a + S1x16.size a ≤ S256x128.size a := fun i v288 v293 k1_hw3 k1_t70 k1_h35 => k1_hw3.1.2.2.2.2.2.2.2.2.2.2.2.2.2.2.2.2.2.1 k1_t70 k1_h35
theorem k1_off281_inb : ∀ (i : grid1.Coords) (v288 : BitVec 32) (v293 : BitVec 32) (k1_hw3 : k1_chk3 i v288 v293) (k1_t70 : Fin (k1_t70_loop i v288 v293).trips), ∀ (k1_h35 : k1_cond35 i v288 v293 = 1#1), ∀ a, (k1_off281 i v288 v293 k1_t70) a + S1x16.size a ≤ S256x128.size a := fun i v288 v293 k1_hw3 k1_t70 k1_h35 => k1_hw3.1.2.2.2.2.2.2.2.2.2.2.2.2.2.2.2.2.2.2.1 k1_t70 k1_h35
theorem k1_off282_inb : ∀ (i : grid1.Coords) (v288 : BitVec 32) (v293 : BitVec 32) (k1_hw3 : k1_chk3 i v288 v293) (k1_t70 : Fin (k1_t70_loop i v288 v293).trips), ∀ (k1_h35 : k1_cond35 i v288 v293 = 1#1), ∀ a, (k1_off282 i v288 v293 k1_t70) a + S1x16.size a ≤ S256x128.size a := fun i v288 v293 k1_hw3 k1_t70 k1_h35 => k1_hw3.1.2.2.2.2.2.2.2.2.2.2.2.2.2.2.2.2.2.2.2.1 k1_t70 k1_h35
theorem k1_t133_ok : ∀ (i : grid1.Coords) (v288 : BitVec 32) (v293 : BitVec 32) (k1_hw3 : k1_chk3 i v288 v293), ∀ (k1_h67 : k1_cond67 i v288 v293 = 1#1), (k1_t133_loop i v288 v293).OK := fun i v288 v293 k1_hw3 k1_h67 => k1_hw3.1.2.2.2.2.2.2.2.2.2.2.2.2.2.2.2.2.2.2.2.2.1 k1_h67
theorem k1_off531_inb : ∀ (i : grid1.Coords) (v288 : BitVec 32) (v293 : BitVec 32) (k1_hw3 : k1_chk3 i v288 v293) (k1_t133 : Fin (k1_t133_loop i v288 v293).trips), ∀ (k1_h67 : k1_cond67 i v288 v293 = 1#1), ∀ a, (k1_off531 i v288 v293 k1_t133) a + S1x16.size a ≤ S256x128.size a := fun i v288 v293 k1_hw3 k1_t133 k1_h67 => k1_hw3.1.2.2.2.2.2.2.2.2.2.2.2.2.2.2.2.2.2.2.2.2.2.1 k1_t133 k1_h67
theorem k1_off532_inb : ∀ (i : grid1.Coords) (v288 : BitVec 32) (v293 : BitVec 32) (k1_hw3 : k1_chk3 i v288 v293) (k1_t133 : Fin (k1_t133_loop i v288 v293).trips), ∀ (k1_h67 : k1_cond67 i v288 v293 = 1#1), ∀ a, (k1_off532 i v288 v293 k1_t133) a + S1x16.size a ≤ S256x128.size a := fun i v288 v293 k1_hw3 k1_t133 k1_h67 => k1_hw3.1.2.2.2.2.2.2.2.2.2.2.2.2.2.2.2.2.2.2.2.2.2.2.1 k1_t133 k1_h67
theorem k1_off533_inb : ∀ (i : grid1.Coords) (v288 : BitVec 32) (v293 : BitVec 32) (k1_hw3 : k1_chk3 i v288 v293) (k1_t133 : Fin (k1_t133_loop i v288 v293).trips), ∀ (k1_h67 : k1_cond67 i v288 v293 = 1#1), ∀ a, (k1_off533 i v288 v293 k1_t133) a + S1x16.size a ≤ S256x128.size a := fun i v288 v293 k1_hw3 k1_t133 k1_h67 => k1_hw3.1.2.2.2.2.2.2.2.2.2.2.2.2.2.2.2.2.2.2.2.2.2.2.2.1 k1_t133 k1_h67
theorem k1_off534_inb : ∀ (i : grid1.Coords) (v288 : BitVec 32) (v293 : BitVec 32) (k1_hw3 : k1_chk3 i v288 v293) (k1_t133 : Fin (k1_t133_loop i v288 v293).trips), ∀ (k1_h67 : k1_cond67 i v288 v293 = 1#1), ∀ a, (k1_off534 i v288 v293 k1_t133) a + S1x16.size a ≤ S256x128.size a := fun i v288 v293 k1_hw3 k1_t133 k1_h67 => k1_hw3.1.2.2.2.2.2.2.2.2.2.2.2.2.2.2.2.2.2.2.2.2.2.2.2.2.1 k1_t133 k1_h67
theorem k1_t134_ok : ∀ (i : grid1.Coords) (v288 : BitVec 32) (v293 : BitVec 32) (k1_hw3 : k1_chk3 i v288 v293), ∀ (k1_h67 : k1_cond67 i v288 v293 = 1#1), (k1_t134_loop i v288 v293).OK := fun i v288 v293 k1_hw3 k1_h67 => k1_hw3.1.2.2.2.2.2.2.2.2.2.2.2.2.2.2.2.2.2.2.2.2.2.2.2.2.2.1 k1_h67
theorem k1_off535_inb : ∀ (i : grid1.Coords) (v288 : BitVec 32) (v293 : BitVec 32) (k1_hw3 : k1_chk3 i v288 v293) (k1_t134 : Fin (k1_t134_loop i v288 v293).trips), ∀ (k1_h67 : k1_cond67 i v288 v293 = 1#1), ∀ a, (k1_off535 i v288 v293 k1_t134) a + S1x16.size a ≤ S256x128.size a := fun i v288 v293 k1_hw3 k1_t134 k1_h67 => k1_hw3.1.2.2.2.2.2.2.2.2.2.2.2.2.2.2.2.2.2.2.2.2.2.2.2.2.2.2.1 k1_t134 k1_h67
theorem k1_off536_inb : ∀ (i : grid1.Coords) (v288 : BitVec 32) (v293 : BitVec 32) (k1_hw3 : k1_chk3 i v288 v293) (k1_t134 : Fin (k1_t134_loop i v288 v293).trips), ∀ (k1_h67 : k1_cond67 i v288 v293 = 1#1), ∀ a, (k1_off536 i v288 v293 k1_t134) a + S1x16.size a ≤ S256x128.size a := fun i v288 v293 k1_hw3 k1_t134 k1_h67 => k1_hw3.1.2.2.2.2.2.2.2.2.2.2.2.2.2.2.2.2.2.2.2.2.2.2.2.2.2.2.2.1 k1_t134 k1_h67
theorem k1_off537_inb : ∀ (i : grid1.Coords) (v288 : BitVec 32) (v293 : BitVec 32) (k1_hw3 : k1_chk3 i v288 v293) (k1_t134 : Fin (k1_t134_loop i v288 v293).trips), ∀ (k1_h67 : k1_cond67 i v288 v293 = 1#1), ∀ a, (k1_off537 i v288 v293 k1_t134) a + S1x16.size a ≤ S256x128.size a := fun i v288 v293 k1_hw3 k1_t134 k1_h67 => k1_hw3.1.2.2.2.2.2.2.2.2.2.2.2.2.2.2.2.2.2.2.2.2.2.2.2.2.2.2.2.2.1 k1_t134 k1_h67
theorem k1_off538_inb : ∀ (i : grid1.Coords) (v288 : BitVec 32) (v293 : BitVec 32) (k1_hw3 : k1_chk3 i v288 v293) (k1_t134 : Fin (k1_t134_loop i v288 v293).trips), ∀ (k1_h67 : k1_cond67 i v288 v293 = 1#1), ∀ a, (k1_off538 i v288 v293 k1_t134) a + S1x16.size a ≤ S256x128.size a := fun i v288 v293 k1_hw3 k1_t134 k1_h67 => k1_hw3.1.2.2.2.2.2.2.2.2.2.2.2.2.2.2.2.2.2.2.2.2.2.2.2.2.2.2.2.2.2.1 k1_t134 k1_h67
theorem k1_t197_ok : ∀ (i : grid1.Coords) (v288 : BitVec 32) (v293 : BitVec 32) (k1_hw3 : k1_chk3 i v288 v293), ∀ (k1_h99 : k1_cond99 i v288 v293 = 1#1), (k1_t197_loop i v288 v293).OK := fun i v288 v293 k1_hw3 k1_h99 => k1_hw3.1.2.2.2.2.2.2.2.2.2.2.2.2.2.2.2.2.2.2.2.2.2.2.2.2.2.2.2.2.2.2.1 k1_h99
theorem k1_off787_inb : ∀ (i : grid1.Coords) (v288 : BitVec 32) (v293 : BitVec 32) (k1_hw3 : k1_chk3 i v288 v293) (k1_t197 : Fin (k1_t197_loop i v288 v293).trips), ∀ (k1_h99 : k1_cond99 i v288 v293 = 1#1), ∀ a, (k1_off787 i v288 v293 k1_t197) a + S1x16.size a ≤ S256x128.size a := fun i v288 v293 k1_hw3 k1_t197 k1_h99 => k1_hw3.1.2.2.2.2.2.2.2.2.2.2.2.2.2.2.2.2.2.2.2.2.2.2.2.2.2.2.2.2.2.2.2 k1_t197 k1_h99
theorem k1_off788_inb : ∀ (i : grid1.Coords) (v288 : BitVec 32) (v293 : BitVec 32) (k1_hw3 : k1_chk3 i v288 v293) (k1_t197 : Fin (k1_t197_loop i v288 v293).trips), ∀ (k1_h99 : k1_cond99 i v288 v293 = 1#1), ∀ a, (k1_off788 i v288 v293 k1_t197) a + S1x16.size a ≤ S256x128.size a := fun i v288 v293 k1_hw3 k1_t197 k1_h99 => k1_hw3.2.1 k1_t197 k1_h99
theorem k1_off789_inb : ∀ (i : grid1.Coords) (v288 : BitVec 32) (v293 : BitVec 32) (k1_hw3 : k1_chk3 i v288 v293) (k1_t197 : Fin (k1_t197_loop i v288 v293).trips), ∀ (k1_h99 : k1_cond99 i v288 v293 = 1#1), ∀ a, (k1_off789 i v288 v293 k1_t197) a + S1x16.size a ≤ S256x128.size a := fun i v288 v293 k1_hw3 k1_t197 k1_h99 => k1_hw3.2.2.1 k1_t197 k1_h99
theorem k1_off790_inb : ∀ (i : grid1.Coords) (v288 : BitVec 32) (v293 : BitVec 32) (k1_hw3 : k1_chk3 i v288 v293) (k1_t197 : Fin (k1_t197_loop i v288 v293).trips), ∀ (k1_h99 : k1_cond99 i v288 v293 = 1#1), ∀ a, (k1_off790 i v288 v293 k1_t197) a + S1x16.size a ≤ S256x128.size a := fun i v288 v293 k1_hw3 k1_t197 k1_h99 => k1_hw3.2.2.2.1 k1_t197 k1_h99
theorem k1_t198_ok : ∀ (i : grid1.Coords) (v288 : BitVec 32) (v293 : BitVec 32) (k1_hw3 : k1_chk3 i v288 v293), ∀ (k1_h99 : k1_cond99 i v288 v293 = 1#1), (k1_t198_loop i v288 v293).OK := fun i v288 v293 k1_hw3 k1_h99 => k1_hw3.2.2.2.2.1 k1_h99
theorem k1_off791_inb : ∀ (i : grid1.Coords) (v288 : BitVec 32) (v293 : BitVec 32) (k1_hw3 : k1_chk3 i v288 v293) (k1_t198 : Fin (k1_t198_loop i v288 v293).trips), ∀ (k1_h99 : k1_cond99 i v288 v293 = 1#1), ∀ a, (k1_off791 i v288 v293 k1_t198) a + S1x16.size a ≤ S256x128.size a := fun i v288 v293 k1_hw3 k1_t198 k1_h99 => k1_hw3.2.2.2.2.2.1 k1_t198 k1_h99
theorem k1_off792_inb : ∀ (i : grid1.Coords) (v288 : BitVec 32) (v293 : BitVec 32) (k1_hw3 : k1_chk3 i v288 v293) (k1_t198 : Fin (k1_t198_loop i v288 v293).trips), ∀ (k1_h99 : k1_cond99 i v288 v293 = 1#1), ∀ a, (k1_off792 i v288 v293 k1_t198) a + S1x16.size a ≤ S256x128.size a := fun i v288 v293 k1_hw3 k1_t198 k1_h99 => k1_hw3.2.2.2.2.2.2.1 k1_t198 k1_h99
theorem k1_off793_inb : ∀ (i : grid1.Coords) (v288 : BitVec 32) (v293 : BitVec 32) (k1_hw3 : k1_chk3 i v288 v293) (k1_t198 : Fin (k1_t198_loop i v288 v293).trips), ∀ (k1_h99 : k1_cond99 i v288 v293 = 1#1), ∀ a, (k1_off793 i v288 v293 k1_t198) a + S1x16.size a ≤ S256x128.size a := fun i v288 v293 k1_hw3 k1_t198 k1_h99 => k1_hw3.2.2.2.2.2.2.2.1 k1_t198 k1_h99
theorem k1_off794_inb : ∀ (i : grid1.Coords) (v288 : BitVec 32) (v293 : BitVec 32) (k1_hw3 : k1_chk3 i v288 v293) (k1_t198 : Fin (k1_t198_loop i v288 v293).trips), ∀ (k1_h99 : k1_cond99 i v288 v293 = 1#1), ∀ a, (k1_off794 i v288 v293 k1_t198) a + S1x16.size a ≤ S256x128.size a := fun i v288 v293 k1_hw3 k1_t198 k1_h99 => k1_hw3.2.2.2.2.2.2.2.2 k1_t198 k1_h99

@[reducible] def k1_t199_loop (i : grid1.Coords) (v298 : BitVec 32) (v304 : BitVec 32) : Scf.Loop 32 :=
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let c256_i32_990 : BitVec 32 := 256#32
  let c0_i32_989 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c768_i32_988 : BitVec 32 := 768#32
  let v1535 : BitVec 32 := Scalar.subi v308 c768_i32_988
  let v1536 : BitVec 32 := Scalar.maxsi c0_i32_989 v1535
  let v1537 : BitVec 32 := Scalar.minsi c256_i32_990 v1536
  let v1805 : BitVec 32 := Scalar.subi v1537 v1534
  let c1_i32_1196 : BitVec 32 := 1#32
  let v1807 : BitVec 32 := Scalar.divsi v1805 c1_i32_1196
  let v1808 : BitVec 32 := Scalar.muli v1807 c1_i32_1196
  let v1809 : BitVec 32 := Scalar.addi v1534 v1808
  let c1_i32_1197 : BitVec 32 := 1#32
  ⟨v1534, v1809, c1_i32_1197⟩
def k1_cond100 (i : grid1.Coords) (v298 : BitVec 32) (v304 : BitVec 32) : BitVec 1 :=
  let c256_i32_990 : BitVec 32 := 256#32
  let c0_i32_989 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v306 : BitVec 32 := Scalar.subi v305 v3
  let v307 : BitVec 32 := Scalar.maxsi c0_i32_129 v306
  let v308 : BitVec 32 := Scalar.minsi c1024_i32_130 v307
  let c768_i32_988 : BitVec 32 := 768#32
  let v1535 : BitVec 32 := Scalar.subi v308 c768_i32_988
  let v1536 : BitVec 32 := Scalar.maxsi c0_i32_989 v1535
  let v1537 : BitVec 32 := Scalar.minsi c256_i32_990 v1536
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let v1538 : BitVec 1 := Scalar.cmpi .sgt v1537 v1534
  let v1539 : BitVec 32 := Scalar.extui v1538
  let c0_i32_991 : BitVec 32 := 0#32
  let v1540 : BitVec 1 := Scalar.cmpi .ne v1539 c0_i32_991
  v1540

def k1_off795 (i : grid1.Coords) (v298 : BitVec 32) (v304 : BitVec 32) (k1_t199 : Fin (k1_t199_loop i v298 v304).trips) : Fin 2 → Nat :=
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let c1_i32_1197 : BitVec 32 := 1#32
  let arg13 : BitVec 32 := Scf.iv v1534 c1_i32_1197 k1_t199
  let v1828 : Index := Scalar.indexCast arg13
  let c64 : Index := 64#32
  ![v1828.toNat, 64]
def k1_off796 (i : grid1.Coords) (v298 : BitVec 32) (v304 : BitVec 32) (k1_t199 : Fin (k1_t199_loop i v298 v304).trips) : Fin 2 → Nat :=
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let c1_i32_1197 : BitVec 32 := 1#32
  let arg13 : BitVec 32 := Scf.iv v1534 c1_i32_1197 k1_t199
  let v1832 : Index := Scalar.indexCast arg13
  let c80 : Index := 80#32
  ![v1832.toNat, 80]
def k1_off797 (i : grid1.Coords) (v298 : BitVec 32) (v304 : BitVec 32) (k1_t199 : Fin (k1_t199_loop i v298 v304).trips) : Fin 2 → Nat :=
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let c1_i32_1197 : BitVec 32 := 1#32
  let arg13 : BitVec 32 := Scf.iv v1534 c1_i32_1197 k1_t199
  let v1836 : Index := Scalar.indexCast arg13
  let c96 : Index := 96#32
  ![v1836.toNat, 96]
def k1_off798 (i : grid1.Coords) (v298 : BitVec 32) (v304 : BitVec 32) (k1_t199 : Fin (k1_t199_loop i v298 v304).trips) : Fin 2 → Nat :=
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let c1_i32_1197 : BitVec 32 := 1#32
  let arg13 : BitVec 32 := Scf.iv v1534 c1_i32_1197 k1_t199
  let v1840 : Index := Scalar.indexCast arg13
  let c112 : Index := 112#32
  ![v1840.toNat, 112]
@[reducible] def k1_t200_loop (i : grid1.Coords) (v298 : BitVec 32) (v304 : BitVec 32) : Scf.Loop 32 :=
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let c256_i32_990 : BitVec 32 := 256#32
  let c0_i32_989 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c768_i32_988 : BitVec 32 := 768#32
  let v1535 : BitVec 32 := Scalar.subi v308 c768_i32_988
  let v1536 : BitVec 32 := Scalar.maxsi c0_i32_989 v1535
  let v1537 : BitVec 32 := Scalar.minsi c256_i32_990 v1536
  let v1805 : BitVec 32 := Scalar.subi v1537 v1534
  let c1_i32_1196 : BitVec 32 := 1#32
  let v1807 : BitVec 32 := Scalar.divsi v1805 c1_i32_1196
  let v1808 : BitVec 32 := Scalar.muli v1807 c1_i32_1196
  let v1809 : BitVec 32 := Scalar.addi v1534 v1808
  let v1806 : BitVec 32 := Scalar.addi v1534 v1805
  let c1_i32_1198 : BitVec 32 := 1#32
  ⟨v1809, v1806, c1_i32_1198⟩
def k1_off799 (i : grid1.Coords) (v298 : BitVec 32) (v304 : BitVec 32) (k1_t200 : Fin (k1_t200_loop i v298 v304).trips) : Fin 2 → Nat :=
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let c256_i32_990 : BitVec 32 := 256#32
  let c0_i32_989 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c768_i32_988 : BitVec 32 := 768#32
  let v1535 : BitVec 32 := Scalar.subi v308 c768_i32_988
  let v1536 : BitVec 32 := Scalar.maxsi c0_i32_989 v1535
  let v1537 : BitVec 32 := Scalar.minsi c256_i32_990 v1536
  let v1805 : BitVec 32 := Scalar.subi v1537 v1534
  let c1_i32_1196 : BitVec 32 := 1#32
  let v1807 : BitVec 32 := Scalar.divsi v1805 c1_i32_1196
  let v1808 : BitVec 32 := Scalar.muli v1807 c1_i32_1196
  let v1809 : BitVec 32 := Scalar.addi v1534 v1808
  let c1_i32_1198 : BitVec 32 := 1#32
  let arg13 : BitVec 32 := Scf.iv v1809 c1_i32_1198 k1_t200
  let v1828 : Index := Scalar.indexCast arg13
  let c64 : Index := 64#32
  ![v1828.toNat, 64]
def k1_off800 (i : grid1.Coords) (v298 : BitVec 32) (v304 : BitVec 32) (k1_t200 : Fin (k1_t200_loop i v298 v304).trips) : Fin 2 → Nat :=
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let c256_i32_990 : BitVec 32 := 256#32
  let c0_i32_989 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c768_i32_988 : BitVec 32 := 768#32
  let v1535 : BitVec 32 := Scalar.subi v308 c768_i32_988
  let v1536 : BitVec 32 := Scalar.maxsi c0_i32_989 v1535
  let v1537 : BitVec 32 := Scalar.minsi c256_i32_990 v1536
  let v1805 : BitVec 32 := Scalar.subi v1537 v1534
  let c1_i32_1196 : BitVec 32 := 1#32
  let v1807 : BitVec 32 := Scalar.divsi v1805 c1_i32_1196
  let v1808 : BitVec 32 := Scalar.muli v1807 c1_i32_1196
  let v1809 : BitVec 32 := Scalar.addi v1534 v1808
  let c1_i32_1198 : BitVec 32 := 1#32
  let arg13 : BitVec 32 := Scf.iv v1809 c1_i32_1198 k1_t200
  let v1832 : Index := Scalar.indexCast arg13
  let c80 : Index := 80#32
  ![v1832.toNat, 80]
def k1_off801 (i : grid1.Coords) (v298 : BitVec 32) (v304 : BitVec 32) (k1_t200 : Fin (k1_t200_loop i v298 v304).trips) : Fin 2 → Nat :=
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let c256_i32_990 : BitVec 32 := 256#32
  let c0_i32_989 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c768_i32_988 : BitVec 32 := 768#32
  let v1535 : BitVec 32 := Scalar.subi v308 c768_i32_988
  let v1536 : BitVec 32 := Scalar.maxsi c0_i32_989 v1535
  let v1537 : BitVec 32 := Scalar.minsi c256_i32_990 v1536
  let v1805 : BitVec 32 := Scalar.subi v1537 v1534
  let c1_i32_1196 : BitVec 32 := 1#32
  let v1807 : BitVec 32 := Scalar.divsi v1805 c1_i32_1196
  let v1808 : BitVec 32 := Scalar.muli v1807 c1_i32_1196
  let v1809 : BitVec 32 := Scalar.addi v1534 v1808
  let c1_i32_1198 : BitVec 32 := 1#32
  let arg13 : BitVec 32 := Scf.iv v1809 c1_i32_1198 k1_t200
  let v1836 : Index := Scalar.indexCast arg13
  let c96 : Index := 96#32
  ![v1836.toNat, 96]
def k1_off802 (i : grid1.Coords) (v298 : BitVec 32) (v304 : BitVec 32) (k1_t200 : Fin (k1_t200_loop i v298 v304).trips) : Fin 2 → Nat :=
  let c256_i32_987 : BitVec 32 := 256#32
  let c0_i32_986 : BitVec 32 := 0#32
  let c1024_i32_127 : BitVec 32 := 1024#32
  let c0_i32_126 : BitVec 32 := 0#32
  let c65536_i32_125 : BitVec 32 := 65536#32
  let v299 : BitVec 32 := Scalar.subi v298 c65536_i32_125
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v300 : BitVec 32 := Scalar.subi v299 v3
  let v301 : BitVec 32 := Scalar.maxsi c0_i32_126 v300
  let v302 : BitVec 32 := Scalar.minsi c1024_i32_127 v301
  let c768_i32_985 : BitVec 32 := 768#32
  let v1532 : BitVec 32 := Scalar.subi v302 c768_i32_985
  let v1533 : BitVec 32 := Scalar.maxsi c0_i32_986 v1532
  let v1534 : BitVec 32 := Scalar.minsi c256_i32_987 v1533
  let c256_i32_990 : BitVec 32 := 256#32
  let c0_i32_989 : BitVec 32 := 0#32
  let c1024_i32_130 : BitVec 32 := 1024#32
  let c0_i32_129 : BitVec 32 := 0#32
  let c65536_i32_128 : BitVec 32 := 65536#32
  let v305 : BitVec 32 := Scalar.subi v304 c65536_i32_128
  let v306 : BitVec 32 := Scalar.subi v305 v3
  let v307 : BitVec 32 := Scalar.maxsi c0_i32_129 v306
  let v308 : BitVec 32 := Scalar.minsi c1024_i32_130 v307
  let c768_i32_988 : BitVec 32 := 768#32
  let v1535 : BitVec 32 := Scalar.subi v308 c768_i32_988
  let v1536 : BitVec 32 := Scalar.maxsi c0_i32_989 v1535
  let v1537 : BitVec 32 := Scalar.minsi c256_i32_990 v1536
  let v1805 : BitVec 32 := Scalar.subi v1537 v1534
  let c1_i32_1196 : BitVec 32 := 1#32
  let v1807 : BitVec 32 := Scalar.divsi v1805 c1_i32_1196
  let v1808 : BitVec 32 := Scalar.muli v1807 c1_i32_1196
  let v1809 : BitVec 32 := Scalar.addi v1534 v1808
  let c1_i32_1198 : BitVec 32 := 1#32
  let arg13 : BitVec 32 := Scf.iv v1809 c1_i32_1198 k1_t200
  let v1840 : Index := Scalar.indexCast arg13
  let c112 : Index := 112#32
  ![v1840.toNat, 112]

def k1_chk4_0 (i : grid1.Coords) (v298 : BitVec 32) (v304 : BitVec 32) : Prop :=
  (∀ (k1_h4 : k1_cond4 i v298 v304 = 1#1), (k1_t7_loop i v298 v304).OK) ∧
  (∀ k1_t7 : Fin (k1_t7_loop i v298 v304).trips, ∀ (k1_h4 : k1_cond4 i v298 v304 = 1#1), ∀ a, (k1_off26 i v298 v304 k1_t7) a + S1x16.size a ≤ S256x128.size a) ∧
  (∀ k1_t7 : Fin (k1_t7_loop i v298 v304).trips, ∀ (k1_h4 : k1_cond4 i v298 v304 = 1#1), ∀ a, (k1_off27 i v298 v304 k1_t7) a + S1x16.size a ≤ S256x128.size a) ∧
  (∀ k1_t7 : Fin (k1_t7_loop i v298 v304).trips, ∀ (k1_h4 : k1_cond4 i v298 v304 = 1#1), ∀ a, (k1_off28 i v298 v304 k1_t7) a + S1x16.size a ≤ S256x128.size a) ∧
  (∀ k1_t7 : Fin (k1_t7_loop i v298 v304).trips, ∀ (k1_h4 : k1_cond4 i v298 v304 = 1#1), ∀ a, (k1_off29 i v298 v304 k1_t7) a + S1x16.size a ≤ S256x128.size a) ∧
  (∀ (k1_h4 : k1_cond4 i v298 v304 = 1#1), (k1_t8_loop i v298 v304).OK) ∧
  (∀ k1_t8 : Fin (k1_t8_loop i v298 v304).trips, ∀ (k1_h4 : k1_cond4 i v298 v304 = 1#1), ∀ a, (k1_off30 i v298 v304 k1_t8) a + S1x16.size a ≤ S256x128.size a) ∧
  (∀ k1_t8 : Fin (k1_t8_loop i v298 v304).trips, ∀ (k1_h4 : k1_cond4 i v298 v304 = 1#1), ∀ a, (k1_off31 i v298 v304 k1_t8) a + S1x16.size a ≤ S256x128.size a) ∧
  (∀ k1_t8 : Fin (k1_t8_loop i v298 v304).trips, ∀ (k1_h4 : k1_cond4 i v298 v304 = 1#1), ∀ a, (k1_off32 i v298 v304 k1_t8) a + S1x16.size a ≤ S256x128.size a) ∧
  (∀ k1_t8 : Fin (k1_t8_loop i v298 v304).trips, ∀ (k1_h4 : k1_cond4 i v298 v304 = 1#1), ∀ a, (k1_off33 i v298 v304 k1_t8) a + S1x16.size a ≤ S256x128.size a) ∧
  (∀ (k1_h36 : k1_cond36 i v298 v304 = 1#1), (k1_t71_loop i v298 v304).OK) ∧
  (∀ k1_t71 : Fin (k1_t71_loop i v298 v304).trips, ∀ (k1_h36 : k1_cond36 i v298 v304 = 1#1), ∀ a, (k1_off283 i v298 v304 k1_t71) a + S1x16.size a ≤ S256x128.size a) ∧
  (∀ k1_t71 : Fin (k1_t71_loop i v298 v304).trips, ∀ (k1_h36 : k1_cond36 i v298 v304 = 1#1), ∀ a, (k1_off284 i v298 v304 k1_t71) a + S1x16.size a ≤ S256x128.size a) ∧
  (∀ k1_t71 : Fin (k1_t71_loop i v298 v304).trips, ∀ (k1_h36 : k1_cond36 i v298 v304 = 1#1), ∀ a, (k1_off285 i v298 v304 k1_t71) a + S1x16.size a ≤ S256x128.size a) ∧
  (∀ k1_t71 : Fin (k1_t71_loop i v298 v304).trips, ∀ (k1_h36 : k1_cond36 i v298 v304 = 1#1), ∀ a, (k1_off286 i v298 v304 k1_t71) a + S1x16.size a ≤ S256x128.size a) ∧
  (∀ (k1_h36 : k1_cond36 i v298 v304 = 1#1), (k1_t72_loop i v298 v304).OK) ∧
  (∀ k1_t72 : Fin (k1_t72_loop i v298 v304).trips, ∀ (k1_h36 : k1_cond36 i v298 v304 = 1#1), ∀ a, (k1_off287 i v298 v304 k1_t72) a + S1x16.size a ≤ S256x128.size a) ∧
  (∀ k1_t72 : Fin (k1_t72_loop i v298 v304).trips, ∀ (k1_h36 : k1_cond36 i v298 v304 = 1#1), ∀ a, (k1_off288 i v298 v304 k1_t72) a + S1x16.size a ≤ S256x128.size a) ∧
  (∀ k1_t72 : Fin (k1_t72_loop i v298 v304).trips, ∀ (k1_h36 : k1_cond36 i v298 v304 = 1#1), ∀ a, (k1_off289 i v298 v304 k1_t72) a + S1x16.size a ≤ S256x128.size a) ∧
  (∀ k1_t72 : Fin (k1_t72_loop i v298 v304).trips, ∀ (k1_h36 : k1_cond36 i v298 v304 = 1#1), ∀ a, (k1_off290 i v298 v304 k1_t72) a + S1x16.size a ≤ S256x128.size a) ∧
  (∀ (k1_h68 : k1_cond68 i v298 v304 = 1#1), (k1_t135_loop i v298 v304).OK) ∧
  (∀ k1_t135 : Fin (k1_t135_loop i v298 v304).trips, ∀ (k1_h68 : k1_cond68 i v298 v304 = 1#1), ∀ a, (k1_off539 i v298 v304 k1_t135) a + S1x16.size a ≤ S256x128.size a) ∧
  (∀ k1_t135 : Fin (k1_t135_loop i v298 v304).trips, ∀ (k1_h68 : k1_cond68 i v298 v304 = 1#1), ∀ a, (k1_off540 i v298 v304 k1_t135) a + S1x16.size a ≤ S256x128.size a) ∧
  (∀ k1_t135 : Fin (k1_t135_loop i v298 v304).trips, ∀ (k1_h68 : k1_cond68 i v298 v304 = 1#1), ∀ a, (k1_off541 i v298 v304 k1_t135) a + S1x16.size a ≤ S256x128.size a) ∧
  (∀ k1_t135 : Fin (k1_t135_loop i v298 v304).trips, ∀ (k1_h68 : k1_cond68 i v298 v304 = 1#1), ∀ a, (k1_off542 i v298 v304 k1_t135) a + S1x16.size a ≤ S256x128.size a) ∧
  (∀ (k1_h68 : k1_cond68 i v298 v304 = 1#1), (k1_t136_loop i v298 v304).OK) ∧
  (∀ k1_t136 : Fin (k1_t136_loop i v298 v304).trips, ∀ (k1_h68 : k1_cond68 i v298 v304 = 1#1), ∀ a, (k1_off543 i v298 v304 k1_t136) a + S1x16.size a ≤ S256x128.size a) ∧
  (∀ k1_t136 : Fin (k1_t136_loop i v298 v304).trips, ∀ (k1_h68 : k1_cond68 i v298 v304 = 1#1), ∀ a, (k1_off544 i v298 v304 k1_t136) a + S1x16.size a ≤ S256x128.size a) ∧
  (∀ k1_t136 : Fin (k1_t136_loop i v298 v304).trips, ∀ (k1_h68 : k1_cond68 i v298 v304 = 1#1), ∀ a, (k1_off545 i v298 v304 k1_t136) a + S1x16.size a ≤ S256x128.size a) ∧
  (∀ k1_t136 : Fin (k1_t136_loop i v298 v304).trips, ∀ (k1_h68 : k1_cond68 i v298 v304 = 1#1), ∀ a, (k1_off546 i v298 v304 k1_t136) a + S1x16.size a ≤ S256x128.size a) ∧
  (∀ (k1_h100 : k1_cond100 i v298 v304 = 1#1), (k1_t199_loop i v298 v304).OK) ∧
  (∀ k1_t199 : Fin (k1_t199_loop i v298 v304).trips, ∀ (k1_h100 : k1_cond100 i v298 v304 = 1#1), ∀ a, (k1_off795 i v298 v304 k1_t199) a + S1x16.size a ≤ S256x128.size a)
def k1_chk4_1 (i : grid1.Coords) (v298 : BitVec 32) (v304 : BitVec 32) : Prop :=
  (∀ k1_t199 : Fin (k1_t199_loop i v298 v304).trips, ∀ (k1_h100 : k1_cond100 i v298 v304 = 1#1), ∀ a, (k1_off796 i v298 v304 k1_t199) a + S1x16.size a ≤ S256x128.size a) ∧
  (∀ k1_t199 : Fin (k1_t199_loop i v298 v304).trips, ∀ (k1_h100 : k1_cond100 i v298 v304 = 1#1), ∀ a, (k1_off797 i v298 v304 k1_t199) a + S1x16.size a ≤ S256x128.size a) ∧
  (∀ k1_t199 : Fin (k1_t199_loop i v298 v304).trips, ∀ (k1_h100 : k1_cond100 i v298 v304 = 1#1), ∀ a, (k1_off798 i v298 v304 k1_t199) a + S1x16.size a ≤ S256x128.size a) ∧
  (∀ (k1_h100 : k1_cond100 i v298 v304 = 1#1), (k1_t200_loop i v298 v304).OK) ∧
  (∀ k1_t200 : Fin (k1_t200_loop i v298 v304).trips, ∀ (k1_h100 : k1_cond100 i v298 v304 = 1#1), ∀ a, (k1_off799 i v298 v304 k1_t200) a + S1x16.size a ≤ S256x128.size a) ∧
  (∀ k1_t200 : Fin (k1_t200_loop i v298 v304).trips, ∀ (k1_h100 : k1_cond100 i v298 v304 = 1#1), ∀ a, (k1_off800 i v298 v304 k1_t200) a + S1x16.size a ≤ S256x128.size a) ∧
  (∀ k1_t200 : Fin (k1_t200_loop i v298 v304).trips, ∀ (k1_h100 : k1_cond100 i v298 v304 = 1#1), ∀ a, (k1_off801 i v298 v304 k1_t200) a + S1x16.size a ≤ S256x128.size a) ∧
  (∀ k1_t200 : Fin (k1_t200_loop i v298 v304).trips, ∀ (k1_h100 : k1_cond100 i v298 v304 = 1#1), ∀ a, (k1_off802 i v298 v304 k1_t200) a + S1x16.size a ≤ S256x128.size a)
def k1_chk4 (i : grid1.Coords) (v298 : BitVec 32) (v304 : BitVec 32) : Prop :=
  k1_chk4_0 i v298 v304 ∧
  k1_chk4_1 i v298 v304
theorem k1_t7_ok : ∀ (i : grid1.Coords) (v298 : BitVec 32) (v304 : BitVec 32) (k1_hw4 : k1_chk4 i v298 v304), ∀ (k1_h4 : k1_cond4 i v298 v304 = 1#1), (k1_t7_loop i v298 v304).OK := fun i v298 v304 k1_hw4 k1_h4 => k1_hw4.1.1 k1_h4
theorem k1_off26_inb : ∀ (i : grid1.Coords) (v298 : BitVec 32) (v304 : BitVec 32) (k1_hw4 : k1_chk4 i v298 v304) (k1_t7 : Fin (k1_t7_loop i v298 v304).trips), ∀ (k1_h4 : k1_cond4 i v298 v304 = 1#1), ∀ a, (k1_off26 i v298 v304 k1_t7) a + S1x16.size a ≤ S256x128.size a := fun i v298 v304 k1_hw4 k1_t7 k1_h4 => k1_hw4.1.2.1 k1_t7 k1_h4
theorem k1_off27_inb : ∀ (i : grid1.Coords) (v298 : BitVec 32) (v304 : BitVec 32) (k1_hw4 : k1_chk4 i v298 v304) (k1_t7 : Fin (k1_t7_loop i v298 v304).trips), ∀ (k1_h4 : k1_cond4 i v298 v304 = 1#1), ∀ a, (k1_off27 i v298 v304 k1_t7) a + S1x16.size a ≤ S256x128.size a := fun i v298 v304 k1_hw4 k1_t7 k1_h4 => k1_hw4.1.2.2.1 k1_t7 k1_h4
theorem k1_off28_inb : ∀ (i : grid1.Coords) (v298 : BitVec 32) (v304 : BitVec 32) (k1_hw4 : k1_chk4 i v298 v304) (k1_t7 : Fin (k1_t7_loop i v298 v304).trips), ∀ (k1_h4 : k1_cond4 i v298 v304 = 1#1), ∀ a, (k1_off28 i v298 v304 k1_t7) a + S1x16.size a ≤ S256x128.size a := fun i v298 v304 k1_hw4 k1_t7 k1_h4 => k1_hw4.1.2.2.2.1 k1_t7 k1_h4
theorem k1_off29_inb : ∀ (i : grid1.Coords) (v298 : BitVec 32) (v304 : BitVec 32) (k1_hw4 : k1_chk4 i v298 v304) (k1_t7 : Fin (k1_t7_loop i v298 v304).trips), ∀ (k1_h4 : k1_cond4 i v298 v304 = 1#1), ∀ a, (k1_off29 i v298 v304 k1_t7) a + S1x16.size a ≤ S256x128.size a := fun i v298 v304 k1_hw4 k1_t7 k1_h4 => k1_hw4.1.2.2.2.2.1 k1_t7 k1_h4
theorem k1_t8_ok : ∀ (i : grid1.Coords) (v298 : BitVec 32) (v304 : BitVec 32) (k1_hw4 : k1_chk4 i v298 v304), ∀ (k1_h4 : k1_cond4 i v298 v304 = 1#1), (k1_t8_loop i v298 v304).OK := fun i v298 v304 k1_hw4 k1_h4 => k1_hw4.1.2.2.2.2.2.1 k1_h4
theorem k1_off30_inb : ∀ (i : grid1.Coords) (v298 : BitVec 32) (v304 : BitVec 32) (k1_hw4 : k1_chk4 i v298 v304) (k1_t8 : Fin (k1_t8_loop i v298 v304).trips), ∀ (k1_h4 : k1_cond4 i v298 v304 = 1#1), ∀ a, (k1_off30 i v298 v304 k1_t8) a + S1x16.size a ≤ S256x128.size a := fun i v298 v304 k1_hw4 k1_t8 k1_h4 => k1_hw4.1.2.2.2.2.2.2.1 k1_t8 k1_h4
theorem k1_off31_inb : ∀ (i : grid1.Coords) (v298 : BitVec 32) (v304 : BitVec 32) (k1_hw4 : k1_chk4 i v298 v304) (k1_t8 : Fin (k1_t8_loop i v298 v304).trips), ∀ (k1_h4 : k1_cond4 i v298 v304 = 1#1), ∀ a, (k1_off31 i v298 v304 k1_t8) a + S1x16.size a ≤ S256x128.size a := fun i v298 v304 k1_hw4 k1_t8 k1_h4 => k1_hw4.1.2.2.2.2.2.2.2.1 k1_t8 k1_h4
theorem k1_off32_inb : ∀ (i : grid1.Coords) (v298 : BitVec 32) (v304 : BitVec 32) (k1_hw4 : k1_chk4 i v298 v304) (k1_t8 : Fin (k1_t8_loop i v298 v304).trips), ∀ (k1_h4 : k1_cond4 i v298 v304 = 1#1), ∀ a, (k1_off32 i v298 v304 k1_t8) a + S1x16.size a ≤ S256x128.size a := fun i v298 v304 k1_hw4 k1_t8 k1_h4 => k1_hw4.1.2.2.2.2.2.2.2.2.1 k1_t8 k1_h4
theorem k1_off33_inb : ∀ (i : grid1.Coords) (v298 : BitVec 32) (v304 : BitVec 32) (k1_hw4 : k1_chk4 i v298 v304) (k1_t8 : Fin (k1_t8_loop i v298 v304).trips), ∀ (k1_h4 : k1_cond4 i v298 v304 = 1#1), ∀ a, (k1_off33 i v298 v304 k1_t8) a + S1x16.size a ≤ S256x128.size a := fun i v298 v304 k1_hw4 k1_t8 k1_h4 => k1_hw4.1.2.2.2.2.2.2.2.2.2.1 k1_t8 k1_h4
theorem k1_t71_ok : ∀ (i : grid1.Coords) (v298 : BitVec 32) (v304 : BitVec 32) (k1_hw4 : k1_chk4 i v298 v304), ∀ (k1_h36 : k1_cond36 i v298 v304 = 1#1), (k1_t71_loop i v298 v304).OK := fun i v298 v304 k1_hw4 k1_h36 => k1_hw4.1.2.2.2.2.2.2.2.2.2.2.1 k1_h36
theorem k1_off283_inb : ∀ (i : grid1.Coords) (v298 : BitVec 32) (v304 : BitVec 32) (k1_hw4 : k1_chk4 i v298 v304) (k1_t71 : Fin (k1_t71_loop i v298 v304).trips), ∀ (k1_h36 : k1_cond36 i v298 v304 = 1#1), ∀ a, (k1_off283 i v298 v304 k1_t71) a + S1x16.size a ≤ S256x128.size a := fun i v298 v304 k1_hw4 k1_t71 k1_h36 => k1_hw4.1.2.2.2.2.2.2.2.2.2.2.2.1 k1_t71 k1_h36
theorem k1_off284_inb : ∀ (i : grid1.Coords) (v298 : BitVec 32) (v304 : BitVec 32) (k1_hw4 : k1_chk4 i v298 v304) (k1_t71 : Fin (k1_t71_loop i v298 v304).trips), ∀ (k1_h36 : k1_cond36 i v298 v304 = 1#1), ∀ a, (k1_off284 i v298 v304 k1_t71) a + S1x16.size a ≤ S256x128.size a := fun i v298 v304 k1_hw4 k1_t71 k1_h36 => k1_hw4.1.2.2.2.2.2.2.2.2.2.2.2.2.1 k1_t71 k1_h36
theorem k1_off285_inb : ∀ (i : grid1.Coords) (v298 : BitVec 32) (v304 : BitVec 32) (k1_hw4 : k1_chk4 i v298 v304) (k1_t71 : Fin (k1_t71_loop i v298 v304).trips), ∀ (k1_h36 : k1_cond36 i v298 v304 = 1#1), ∀ a, (k1_off285 i v298 v304 k1_t71) a + S1x16.size a ≤ S256x128.size a := fun i v298 v304 k1_hw4 k1_t71 k1_h36 => k1_hw4.1.2.2.2.2.2.2.2.2.2.2.2.2.2.1 k1_t71 k1_h36
theorem k1_off286_inb : ∀ (i : grid1.Coords) (v298 : BitVec 32) (v304 : BitVec 32) (k1_hw4 : k1_chk4 i v298 v304) (k1_t71 : Fin (k1_t71_loop i v298 v304).trips), ∀ (k1_h36 : k1_cond36 i v298 v304 = 1#1), ∀ a, (k1_off286 i v298 v304 k1_t71) a + S1x16.size a ≤ S256x128.size a := fun i v298 v304 k1_hw4 k1_t71 k1_h36 => k1_hw4.1.2.2.2.2.2.2.2.2.2.2.2.2.2.2.1 k1_t71 k1_h36
theorem k1_t72_ok : ∀ (i : grid1.Coords) (v298 : BitVec 32) (v304 : BitVec 32) (k1_hw4 : k1_chk4 i v298 v304), ∀ (k1_h36 : k1_cond36 i v298 v304 = 1#1), (k1_t72_loop i v298 v304).OK := fun i v298 v304 k1_hw4 k1_h36 => k1_hw4.1.2.2.2.2.2.2.2.2.2.2.2.2.2.2.2.1 k1_h36
theorem k1_off287_inb : ∀ (i : grid1.Coords) (v298 : BitVec 32) (v304 : BitVec 32) (k1_hw4 : k1_chk4 i v298 v304) (k1_t72 : Fin (k1_t72_loop i v298 v304).trips), ∀ (k1_h36 : k1_cond36 i v298 v304 = 1#1), ∀ a, (k1_off287 i v298 v304 k1_t72) a + S1x16.size a ≤ S256x128.size a := fun i v298 v304 k1_hw4 k1_t72 k1_h36 => k1_hw4.1.2.2.2.2.2.2.2.2.2.2.2.2.2.2.2.2.1 k1_t72 k1_h36
theorem k1_off288_inb : ∀ (i : grid1.Coords) (v298 : BitVec 32) (v304 : BitVec 32) (k1_hw4 : k1_chk4 i v298 v304) (k1_t72 : Fin (k1_t72_loop i v298 v304).trips), ∀ (k1_h36 : k1_cond36 i v298 v304 = 1#1), ∀ a, (k1_off288 i v298 v304 k1_t72) a + S1x16.size a ≤ S256x128.size a := fun i v298 v304 k1_hw4 k1_t72 k1_h36 => k1_hw4.1.2.2.2.2.2.2.2.2.2.2.2.2.2.2.2.2.2.1 k1_t72 k1_h36
theorem k1_off289_inb : ∀ (i : grid1.Coords) (v298 : BitVec 32) (v304 : BitVec 32) (k1_hw4 : k1_chk4 i v298 v304) (k1_t72 : Fin (k1_t72_loop i v298 v304).trips), ∀ (k1_h36 : k1_cond36 i v298 v304 = 1#1), ∀ a, (k1_off289 i v298 v304 k1_t72) a + S1x16.size a ≤ S256x128.size a := fun i v298 v304 k1_hw4 k1_t72 k1_h36 => k1_hw4.1.2.2.2.2.2.2.2.2.2.2.2.2.2.2.2.2.2.2.1 k1_t72 k1_h36
theorem k1_off290_inb : ∀ (i : grid1.Coords) (v298 : BitVec 32) (v304 : BitVec 32) (k1_hw4 : k1_chk4 i v298 v304) (k1_t72 : Fin (k1_t72_loop i v298 v304).trips), ∀ (k1_h36 : k1_cond36 i v298 v304 = 1#1), ∀ a, (k1_off290 i v298 v304 k1_t72) a + S1x16.size a ≤ S256x128.size a := fun i v298 v304 k1_hw4 k1_t72 k1_h36 => k1_hw4.1.2.2.2.2.2.2.2.2.2.2.2.2.2.2.2.2.2.2.2.1 k1_t72 k1_h36
theorem k1_t135_ok : ∀ (i : grid1.Coords) (v298 : BitVec 32) (v304 : BitVec 32) (k1_hw4 : k1_chk4 i v298 v304), ∀ (k1_h68 : k1_cond68 i v298 v304 = 1#1), (k1_t135_loop i v298 v304).OK := fun i v298 v304 k1_hw4 k1_h68 => k1_hw4.1.2.2.2.2.2.2.2.2.2.2.2.2.2.2.2.2.2.2.2.2.1 k1_h68
theorem k1_off539_inb : ∀ (i : grid1.Coords) (v298 : BitVec 32) (v304 : BitVec 32) (k1_hw4 : k1_chk4 i v298 v304) (k1_t135 : Fin (k1_t135_loop i v298 v304).trips), ∀ (k1_h68 : k1_cond68 i v298 v304 = 1#1), ∀ a, (k1_off539 i v298 v304 k1_t135) a + S1x16.size a ≤ S256x128.size a := fun i v298 v304 k1_hw4 k1_t135 k1_h68 => k1_hw4.1.2.2.2.2.2.2.2.2.2.2.2.2.2.2.2.2.2.2.2.2.2.1 k1_t135 k1_h68
theorem k1_off540_inb : ∀ (i : grid1.Coords) (v298 : BitVec 32) (v304 : BitVec 32) (k1_hw4 : k1_chk4 i v298 v304) (k1_t135 : Fin (k1_t135_loop i v298 v304).trips), ∀ (k1_h68 : k1_cond68 i v298 v304 = 1#1), ∀ a, (k1_off540 i v298 v304 k1_t135) a + S1x16.size a ≤ S256x128.size a := fun i v298 v304 k1_hw4 k1_t135 k1_h68 => k1_hw4.1.2.2.2.2.2.2.2.2.2.2.2.2.2.2.2.2.2.2.2.2.2.2.1 k1_t135 k1_h68
theorem k1_off541_inb : ∀ (i : grid1.Coords) (v298 : BitVec 32) (v304 : BitVec 32) (k1_hw4 : k1_chk4 i v298 v304) (k1_t135 : Fin (k1_t135_loop i v298 v304).trips), ∀ (k1_h68 : k1_cond68 i v298 v304 = 1#1), ∀ a, (k1_off541 i v298 v304 k1_t135) a + S1x16.size a ≤ S256x128.size a := fun i v298 v304 k1_hw4 k1_t135 k1_h68 => k1_hw4.1.2.2.2.2.2.2.2.2.2.2.2.2.2.2.2.2.2.2.2.2.2.2.2.1 k1_t135 k1_h68
theorem k1_off542_inb : ∀ (i : grid1.Coords) (v298 : BitVec 32) (v304 : BitVec 32) (k1_hw4 : k1_chk4 i v298 v304) (k1_t135 : Fin (k1_t135_loop i v298 v304).trips), ∀ (k1_h68 : k1_cond68 i v298 v304 = 1#1), ∀ a, (k1_off542 i v298 v304 k1_t135) a + S1x16.size a ≤ S256x128.size a := fun i v298 v304 k1_hw4 k1_t135 k1_h68 => k1_hw4.1.2.2.2.2.2.2.2.2.2.2.2.2.2.2.2.2.2.2.2.2.2.2.2.2.1 k1_t135 k1_h68
theorem k1_t136_ok : ∀ (i : grid1.Coords) (v298 : BitVec 32) (v304 : BitVec 32) (k1_hw4 : k1_chk4 i v298 v304), ∀ (k1_h68 : k1_cond68 i v298 v304 = 1#1), (k1_t136_loop i v298 v304).OK := fun i v298 v304 k1_hw4 k1_h68 => k1_hw4.1.2.2.2.2.2.2.2.2.2.2.2.2.2.2.2.2.2.2.2.2.2.2.2.2.2.1 k1_h68
theorem k1_off543_inb : ∀ (i : grid1.Coords) (v298 : BitVec 32) (v304 : BitVec 32) (k1_hw4 : k1_chk4 i v298 v304) (k1_t136 : Fin (k1_t136_loop i v298 v304).trips), ∀ (k1_h68 : k1_cond68 i v298 v304 = 1#1), ∀ a, (k1_off543 i v298 v304 k1_t136) a + S1x16.size a ≤ S256x128.size a := fun i v298 v304 k1_hw4 k1_t136 k1_h68 => k1_hw4.1.2.2.2.2.2.2.2.2.2.2.2.2.2.2.2.2.2.2.2.2.2.2.2.2.2.2.1 k1_t136 k1_h68
theorem k1_off544_inb : ∀ (i : grid1.Coords) (v298 : BitVec 32) (v304 : BitVec 32) (k1_hw4 : k1_chk4 i v298 v304) (k1_t136 : Fin (k1_t136_loop i v298 v304).trips), ∀ (k1_h68 : k1_cond68 i v298 v304 = 1#1), ∀ a, (k1_off544 i v298 v304 k1_t136) a + S1x16.size a ≤ S256x128.size a := fun i v298 v304 k1_hw4 k1_t136 k1_h68 => k1_hw4.1.2.2.2.2.2.2.2.2.2.2.2.2.2.2.2.2.2.2.2.2.2.2.2.2.2.2.2.1 k1_t136 k1_h68
theorem k1_off545_inb : ∀ (i : grid1.Coords) (v298 : BitVec 32) (v304 : BitVec 32) (k1_hw4 : k1_chk4 i v298 v304) (k1_t136 : Fin (k1_t136_loop i v298 v304).trips), ∀ (k1_h68 : k1_cond68 i v298 v304 = 1#1), ∀ a, (k1_off545 i v298 v304 k1_t136) a + S1x16.size a ≤ S256x128.size a := fun i v298 v304 k1_hw4 k1_t136 k1_h68 => k1_hw4.1.2.2.2.2.2.2.2.2.2.2.2.2.2.2.2.2.2.2.2.2.2.2.2.2.2.2.2.2.1 k1_t136 k1_h68
theorem k1_off546_inb : ∀ (i : grid1.Coords) (v298 : BitVec 32) (v304 : BitVec 32) (k1_hw4 : k1_chk4 i v298 v304) (k1_t136 : Fin (k1_t136_loop i v298 v304).trips), ∀ (k1_h68 : k1_cond68 i v298 v304 = 1#1), ∀ a, (k1_off546 i v298 v304 k1_t136) a + S1x16.size a ≤ S256x128.size a := fun i v298 v304 k1_hw4 k1_t136 k1_h68 => k1_hw4.1.2.2.2.2.2.2.2.2.2.2.2.2.2.2.2.2.2.2.2.2.2.2.2.2.2.2.2.2.2.1 k1_t136 k1_h68
theorem k1_t199_ok : ∀ (i : grid1.Coords) (v298 : BitVec 32) (v304 : BitVec 32) (k1_hw4 : k1_chk4 i v298 v304), ∀ (k1_h100 : k1_cond100 i v298 v304 = 1#1), (k1_t199_loop i v298 v304).OK := fun i v298 v304 k1_hw4 k1_h100 => k1_hw4.1.2.2.2.2.2.2.2.2.2.2.2.2.2.2.2.2.2.2.2.2.2.2.2.2.2.2.2.2.2.2.1 k1_h100
theorem k1_off795_inb : ∀ (i : grid1.Coords) (v298 : BitVec 32) (v304 : BitVec 32) (k1_hw4 : k1_chk4 i v298 v304) (k1_t199 : Fin (k1_t199_loop i v298 v304).trips), ∀ (k1_h100 : k1_cond100 i v298 v304 = 1#1), ∀ a, (k1_off795 i v298 v304 k1_t199) a + S1x16.size a ≤ S256x128.size a := fun i v298 v304 k1_hw4 k1_t199 k1_h100 => k1_hw4.1.2.2.2.2.2.2.2.2.2.2.2.2.2.2.2.2.2.2.2.2.2.2.2.2.2.2.2.2.2.2.2 k1_t199 k1_h100
theorem k1_off796_inb : ∀ (i : grid1.Coords) (v298 : BitVec 32) (v304 : BitVec 32) (k1_hw4 : k1_chk4 i v298 v304) (k1_t199 : Fin (k1_t199_loop i v298 v304).trips), ∀ (k1_h100 : k1_cond100 i v298 v304 = 1#1), ∀ a, (k1_off796 i v298 v304 k1_t199) a + S1x16.size a ≤ S256x128.size a := fun i v298 v304 k1_hw4 k1_t199 k1_h100 => k1_hw4.2.1 k1_t199 k1_h100
theorem k1_off797_inb : ∀ (i : grid1.Coords) (v298 : BitVec 32) (v304 : BitVec 32) (k1_hw4 : k1_chk4 i v298 v304) (k1_t199 : Fin (k1_t199_loop i v298 v304).trips), ∀ (k1_h100 : k1_cond100 i v298 v304 = 1#1), ∀ a, (k1_off797 i v298 v304 k1_t199) a + S1x16.size a ≤ S256x128.size a := fun i v298 v304 k1_hw4 k1_t199 k1_h100 => k1_hw4.2.2.1 k1_t199 k1_h100
theorem k1_off798_inb : ∀ (i : grid1.Coords) (v298 : BitVec 32) (v304 : BitVec 32) (k1_hw4 : k1_chk4 i v298 v304) (k1_t199 : Fin (k1_t199_loop i v298 v304).trips), ∀ (k1_h100 : k1_cond100 i v298 v304 = 1#1), ∀ a, (k1_off798 i v298 v304 k1_t199) a + S1x16.size a ≤ S256x128.size a := fun i v298 v304 k1_hw4 k1_t199 k1_h100 => k1_hw4.2.2.2.1 k1_t199 k1_h100
theorem k1_t200_ok : ∀ (i : grid1.Coords) (v298 : BitVec 32) (v304 : BitVec 32) (k1_hw4 : k1_chk4 i v298 v304), ∀ (k1_h100 : k1_cond100 i v298 v304 = 1#1), (k1_t200_loop i v298 v304).OK := fun i v298 v304 k1_hw4 k1_h100 => k1_hw4.2.2.2.2.1 k1_h100
theorem k1_off799_inb : ∀ (i : grid1.Coords) (v298 : BitVec 32) (v304 : BitVec 32) (k1_hw4 : k1_chk4 i v298 v304) (k1_t200 : Fin (k1_t200_loop i v298 v304).trips), ∀ (k1_h100 : k1_cond100 i v298 v304 = 1#1), ∀ a, (k1_off799 i v298 v304 k1_t200) a + S1x16.size a ≤ S256x128.size a := fun i v298 v304 k1_hw4 k1_t200 k1_h100 => k1_hw4.2.2.2.2.2.1 k1_t200 k1_h100
theorem k1_off800_inb : ∀ (i : grid1.Coords) (v298 : BitVec 32) (v304 : BitVec 32) (k1_hw4 : k1_chk4 i v298 v304) (k1_t200 : Fin (k1_t200_loop i v298 v304).trips), ∀ (k1_h100 : k1_cond100 i v298 v304 = 1#1), ∀ a, (k1_off800 i v298 v304 k1_t200) a + S1x16.size a ≤ S256x128.size a := fun i v298 v304 k1_hw4 k1_t200 k1_h100 => k1_hw4.2.2.2.2.2.2.1 k1_t200 k1_h100
theorem k1_off801_inb : ∀ (i : grid1.Coords) (v298 : BitVec 32) (v304 : BitVec 32) (k1_hw4 : k1_chk4 i v298 v304) (k1_t200 : Fin (k1_t200_loop i v298 v304).trips), ∀ (k1_h100 : k1_cond100 i v298 v304 = 1#1), ∀ a, (k1_off801 i v298 v304 k1_t200) a + S1x16.size a ≤ S256x128.size a := fun i v298 v304 k1_hw4 k1_t200 k1_h100 => k1_hw4.2.2.2.2.2.2.2.1 k1_t200 k1_h100
theorem k1_off802_inb : ∀ (i : grid1.Coords) (v298 : BitVec 32) (v304 : BitVec 32) (k1_hw4 : k1_chk4 i v298 v304) (k1_t200 : Fin (k1_t200_loop i v298 v304).trips), ∀ (k1_h100 : k1_cond100 i v298 v304 = 1#1), ∀ a, (k1_off802 i v298 v304 k1_t200) a + S1x16.size a ≤ S256x128.size a := fun i v298 v304 k1_hw4 k1_t200 k1_h100 => k1_hw4.2.2.2.2.2.2.2.2 k1_t200 k1_h100

@[reducible] def k1_t201_loop (i : grid1.Coords) (v310 : BitVec 32) (v315 : BitVec 32) : Scf.Loop 32 :=
  let c256_i32_994 : BitVec 32 := 256#32
  let c0_i32_993 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let c256_i32_997 : BitVec 32 := 256#32
  let c0_i32_996 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c768_i32_995 : BitVec 32 := 768#32
  let v1544 : BitVec 32 := Scalar.subi v318 c768_i32_995
  let v1545 : BitVec 32 := Scalar.maxsi c0_i32_996 v1544
  let v1546 : BitVec 32 := Scalar.minsi c256_i32_997 v1545
  let v1805 : BitVec 32 := Scalar.subi v1546 v1543
  let c1_i32_1196 : BitVec 32 := 1#32
  let v1807 : BitVec 32 := Scalar.divsi v1805 c1_i32_1196
  let v1808 : BitVec 32 := Scalar.muli v1807 c1_i32_1196
  let v1809 : BitVec 32 := Scalar.addi v1543 v1808
  let c1_i32_1197 : BitVec 32 := 1#32
  ⟨v1543, v1809, c1_i32_1197⟩
def k1_cond101 (i : grid1.Coords) (v310 : BitVec 32) (v315 : BitVec 32) : BitVec 1 :=
  let c256_i32_997 : BitVec 32 := 256#32
  let c0_i32_996 : BitVec 32 := 0#32
  let c1024_i32_134 : BitVec 32 := 1024#32
  let c0_i32_133 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v316 : BitVec 32 := Scalar.subi v315 v3
  let v317 : BitVec 32 := Scalar.maxsi c0_i32_133 v316
  let v318 : BitVec 32 := Scalar.minsi c1024_i32_134 v317
  let c768_i32_995 : BitVec 32 := 768#32
  let v1544 : BitVec 32 := Scalar.subi v318 c768_i32_995
  let v1545 : BitVec 32 := Scalar.maxsi c0_i32_996 v1544
  let v1546 : BitVec 32 := Scalar.minsi c256_i32_997 v1545
  let c256_i32_994 : BitVec 32 := 256#32
  let c0_i32_993 : BitVec 32 := 0#32
  let c1024_i32_132 : BitVec 32 := 1024#32
  let c0_i32_131 : BitVec 32 := 0#32
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let v1547 : BitVec 1 := Scalar.cmpi .sgt v1546 v1543
  let v1548 : BitVec 32 := Scalar.extui v1547
  let c0_i32_998 : BitVec 32 := 0#32
  let v1549 : BitVec 1 := Scalar.cmpi .ne v1548 c0_i32_998
  v1549

def k1_off803 (i : grid1.Coords) (v310 : BitVec 32) (v315 : BitVec 32) (k1_t201 : Fin (k1_t201_loop i v310 v315).trips) : Fin 2 → Nat :=
  let c256_i32_994 : BitVec 32 := 256#32
  let c0_i32_993 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let c1_i32_1197 : BitVec 32 := 1#32
  let arg13 : BitVec 32 := Scf.iv v1543 c1_i32_1197 k1_t201
  let v1828 : Index := Scalar.indexCast arg13
  let c0_1207 : Index := 0#32
  ![v1828.toNat, 0]
def k1_off804 (i : grid1.Coords) (v310 : BitVec 32) (v315 : BitVec 32) (k1_t201 : Fin (k1_t201_loop i v310 v315).trips) : Fin 2 → Nat :=
  let c256_i32_994 : BitVec 32 := 256#32
  let c0_i32_993 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let c1_i32_1197 : BitVec 32 := 1#32
  let arg13 : BitVec 32 := Scf.iv v1543 c1_i32_1197 k1_t201
  let v1832 : Index := Scalar.indexCast arg13
  let c16_1208 : Index := 16#32
  ![v1832.toNat, 16]
def k1_off805 (i : grid1.Coords) (v310 : BitVec 32) (v315 : BitVec 32) (k1_t201 : Fin (k1_t201_loop i v310 v315).trips) : Fin 2 → Nat :=
  let c256_i32_994 : BitVec 32 := 256#32
  let c0_i32_993 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let c1_i32_1197 : BitVec 32 := 1#32
  let arg13 : BitVec 32 := Scf.iv v1543 c1_i32_1197 k1_t201
  let v1836 : Index := Scalar.indexCast arg13
  let c32_1209 : Index := 32#32
  ![v1836.toNat, 32]
def k1_off806 (i : grid1.Coords) (v310 : BitVec 32) (v315 : BitVec 32) (k1_t201 : Fin (k1_t201_loop i v310 v315).trips) : Fin 2 → Nat :=
  let c256_i32_994 : BitVec 32 := 256#32
  let c0_i32_993 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let c1_i32_1197 : BitVec 32 := 1#32
  let arg13 : BitVec 32 := Scf.iv v1543 c1_i32_1197 k1_t201
  let v1840 : Index := Scalar.indexCast arg13
  let c48_1210 : Index := 48#32
  ![v1840.toNat, 48]
@[reducible] def k1_t202_loop (i : grid1.Coords) (v310 : BitVec 32) (v315 : BitVec 32) : Scf.Loop 32 :=
  let c256_i32_994 : BitVec 32 := 256#32
  let c0_i32_993 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let c256_i32_997 : BitVec 32 := 256#32
  let c0_i32_996 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c768_i32_995 : BitVec 32 := 768#32
  let v1544 : BitVec 32 := Scalar.subi v318 c768_i32_995
  let v1545 : BitVec 32 := Scalar.maxsi c0_i32_996 v1544
  let v1546 : BitVec 32 := Scalar.minsi c256_i32_997 v1545
  let v1805 : BitVec 32 := Scalar.subi v1546 v1543
  let c1_i32_1196 : BitVec 32 := 1#32
  let v1807 : BitVec 32 := Scalar.divsi v1805 c1_i32_1196
  let v1808 : BitVec 32 := Scalar.muli v1807 c1_i32_1196
  let v1809 : BitVec 32 := Scalar.addi v1543 v1808
  let v1806 : BitVec 32 := Scalar.addi v1543 v1805
  let c1_i32_1198 : BitVec 32 := 1#32
  ⟨v1809, v1806, c1_i32_1198⟩
def k1_off807 (i : grid1.Coords) (v310 : BitVec 32) (v315 : BitVec 32) (k1_t202 : Fin (k1_t202_loop i v310 v315).trips) : Fin 2 → Nat :=
  let c256_i32_994 : BitVec 32 := 256#32
  let c0_i32_993 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let c256_i32_997 : BitVec 32 := 256#32
  let c0_i32_996 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c768_i32_995 : BitVec 32 := 768#32
  let v1544 : BitVec 32 := Scalar.subi v318 c768_i32_995
  let v1545 : BitVec 32 := Scalar.maxsi c0_i32_996 v1544
  let v1546 : BitVec 32 := Scalar.minsi c256_i32_997 v1545
  let v1805 : BitVec 32 := Scalar.subi v1546 v1543
  let c1_i32_1196 : BitVec 32 := 1#32
  let v1807 : BitVec 32 := Scalar.divsi v1805 c1_i32_1196
  let v1808 : BitVec 32 := Scalar.muli v1807 c1_i32_1196
  let v1809 : BitVec 32 := Scalar.addi v1543 v1808
  let c1_i32_1198 : BitVec 32 := 1#32
  let arg13 : BitVec 32 := Scf.iv v1809 c1_i32_1198 k1_t202
  let v1828 : Index := Scalar.indexCast arg13
  let c0_1207 : Index := 0#32
  ![v1828.toNat, 0]
def k1_off808 (i : grid1.Coords) (v310 : BitVec 32) (v315 : BitVec 32) (k1_t202 : Fin (k1_t202_loop i v310 v315).trips) : Fin 2 → Nat :=
  let c256_i32_994 : BitVec 32 := 256#32
  let c0_i32_993 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let c256_i32_997 : BitVec 32 := 256#32
  let c0_i32_996 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c768_i32_995 : BitVec 32 := 768#32
  let v1544 : BitVec 32 := Scalar.subi v318 c768_i32_995
  let v1545 : BitVec 32 := Scalar.maxsi c0_i32_996 v1544
  let v1546 : BitVec 32 := Scalar.minsi c256_i32_997 v1545
  let v1805 : BitVec 32 := Scalar.subi v1546 v1543
  let c1_i32_1196 : BitVec 32 := 1#32
  let v1807 : BitVec 32 := Scalar.divsi v1805 c1_i32_1196
  let v1808 : BitVec 32 := Scalar.muli v1807 c1_i32_1196
  let v1809 : BitVec 32 := Scalar.addi v1543 v1808
  let c1_i32_1198 : BitVec 32 := 1#32
  let arg13 : BitVec 32 := Scf.iv v1809 c1_i32_1198 k1_t202
  let v1832 : Index := Scalar.indexCast arg13
  let c16_1208 : Index := 16#32
  ![v1832.toNat, 16]
def k1_off809 (i : grid1.Coords) (v310 : BitVec 32) (v315 : BitVec 32) (k1_t202 : Fin (k1_t202_loop i v310 v315).trips) : Fin 2 → Nat :=
  let c256_i32_994 : BitVec 32 := 256#32
  let c0_i32_993 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let c256_i32_997 : BitVec 32 := 256#32
  let c0_i32_996 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c768_i32_995 : BitVec 32 := 768#32
  let v1544 : BitVec 32 := Scalar.subi v318 c768_i32_995
  let v1545 : BitVec 32 := Scalar.maxsi c0_i32_996 v1544
  let v1546 : BitVec 32 := Scalar.minsi c256_i32_997 v1545
  let v1805 : BitVec 32 := Scalar.subi v1546 v1543
  let c1_i32_1196 : BitVec 32 := 1#32
  let v1807 : BitVec 32 := Scalar.divsi v1805 c1_i32_1196
  let v1808 : BitVec 32 := Scalar.muli v1807 c1_i32_1196
  let v1809 : BitVec 32 := Scalar.addi v1543 v1808
  let c1_i32_1198 : BitVec 32 := 1#32
  let arg13 : BitVec 32 := Scf.iv v1809 c1_i32_1198 k1_t202
  let v1836 : Index := Scalar.indexCast arg13
  let c32_1209 : Index := 32#32
  ![v1836.toNat, 32]
def k1_off810 (i : grid1.Coords) (v310 : BitVec 32) (v315 : BitVec 32) (k1_t202 : Fin (k1_t202_loop i v310 v315).trips) : Fin 2 → Nat :=
  let c256_i32_994 : BitVec 32 := 256#32
  let c0_i32_993 : BitVec 32 := 0#32
  let c1024_i32_132 : BitVec 32 := 1024#32
  let c0_i32_131 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v311 : BitVec 32 := Scalar.subi v310 v3
  let v312 : BitVec 32 := Scalar.maxsi c0_i32_131 v311
  let v313 : BitVec 32 := Scalar.minsi c1024_i32_132 v312
  let c768_i32_992 : BitVec 32 := 768#32
  let v1541 : BitVec 32 := Scalar.subi v313 c768_i32_992
  let v1542 : BitVec 32 := Scalar.maxsi c0_i32_993 v1541
  let v1543 : BitVec 32 := Scalar.minsi c256_i32_994 v1542
  let c256_i32_997 : BitVec 32 := 256#32
  let c0_i32_996 : BitVec 32 := 0#32
  let c1024_i32_134 : BitVec 32 := 1024#32
  let c0_i32_133 : BitVec 32 := 0#32
  let v316 : BitVec 32 := Scalar.subi v315 v3
  let v317 : BitVec 32 := Scalar.maxsi c0_i32_133 v316
  let v318 : BitVec 32 := Scalar.minsi c1024_i32_134 v317
  let c768_i32_995 : BitVec 32 := 768#32
  let v1544 : BitVec 32 := Scalar.subi v318 c768_i32_995
  let v1545 : BitVec 32 := Scalar.maxsi c0_i32_996 v1544
  let v1546 : BitVec 32 := Scalar.minsi c256_i32_997 v1545
  let v1805 : BitVec 32 := Scalar.subi v1546 v1543
  let c1_i32_1196 : BitVec 32 := 1#32
  let v1807 : BitVec 32 := Scalar.divsi v1805 c1_i32_1196
  let v1808 : BitVec 32 := Scalar.muli v1807 c1_i32_1196
  let v1809 : BitVec 32 := Scalar.addi v1543 v1808
  let c1_i32_1198 : BitVec 32 := 1#32
  let arg13 : BitVec 32 := Scf.iv v1809 c1_i32_1198 k1_t202
  let v1840 : Index := Scalar.indexCast arg13
  let c48_1210 : Index := 48#32
  ![v1840.toNat, 48]

def k1_chk5_0 (i : grid1.Coords) (v310 : BitVec 32) (v315 : BitVec 32) : Prop :=
  (∀ (k1_h5 : k1_cond5 i v310 v315 = 1#1), (k1_t9_loop i v310 v315).OK) ∧
  (∀ k1_t9 : Fin (k1_t9_loop i v310 v315).trips, ∀ (k1_h5 : k1_cond5 i v310 v315 = 1#1), ∀ a, (k1_off34 i v310 v315 k1_t9) a + S1x16.size a ≤ S256x128.size a) ∧
  (∀ k1_t9 : Fin (k1_t9_loop i v310 v315).trips, ∀ (k1_h5 : k1_cond5 i v310 v315 = 1#1), ∀ a, (k1_off35 i v310 v315 k1_t9) a + S1x16.size a ≤ S256x128.size a) ∧
  (∀ k1_t9 : Fin (k1_t9_loop i v310 v315).trips, ∀ (k1_h5 : k1_cond5 i v310 v315 = 1#1), ∀ a, (k1_off36 i v310 v315 k1_t9) a + S1x16.size a ≤ S256x128.size a) ∧
  (∀ k1_t9 : Fin (k1_t9_loop i v310 v315).trips, ∀ (k1_h5 : k1_cond5 i v310 v315 = 1#1), ∀ a, (k1_off37 i v310 v315 k1_t9) a + S1x16.size a ≤ S256x128.size a) ∧
  (∀ (k1_h5 : k1_cond5 i v310 v315 = 1#1), (k1_t10_loop i v310 v315).OK) ∧
  (∀ k1_t10 : Fin (k1_t10_loop i v310 v315).trips, ∀ (k1_h5 : k1_cond5 i v310 v315 = 1#1), ∀ a, (k1_off38 i v310 v315 k1_t10) a + S1x16.size a ≤ S256x128.size a) ∧
  (∀ k1_t10 : Fin (k1_t10_loop i v310 v315).trips, ∀ (k1_h5 : k1_cond5 i v310 v315 = 1#1), ∀ a, (k1_off39 i v310 v315 k1_t10) a + S1x16.size a ≤ S256x128.size a) ∧
  (∀ k1_t10 : Fin (k1_t10_loop i v310 v315).trips, ∀ (k1_h5 : k1_cond5 i v310 v315 = 1#1), ∀ a, (k1_off40 i v310 v315 k1_t10) a + S1x16.size a ≤ S256x128.size a) ∧
  (∀ k1_t10 : Fin (k1_t10_loop i v310 v315).trips, ∀ (k1_h5 : k1_cond5 i v310 v315 = 1#1), ∀ a, (k1_off41 i v310 v315 k1_t10) a + S1x16.size a ≤ S256x128.size a) ∧
  (∀ (k1_h37 : k1_cond37 i v310 v315 = 1#1), (k1_t73_loop i v310 v315).OK) ∧
  (∀ k1_t73 : Fin (k1_t73_loop i v310 v315).trips, ∀ (k1_h37 : k1_cond37 i v310 v315 = 1#1), ∀ a, (k1_off291 i v310 v315 k1_t73) a + S1x16.size a ≤ S256x128.size a) ∧
  (∀ k1_t73 : Fin (k1_t73_loop i v310 v315).trips, ∀ (k1_h37 : k1_cond37 i v310 v315 = 1#1), ∀ a, (k1_off292 i v310 v315 k1_t73) a + S1x16.size a ≤ S256x128.size a) ∧
  (∀ k1_t73 : Fin (k1_t73_loop i v310 v315).trips, ∀ (k1_h37 : k1_cond37 i v310 v315 = 1#1), ∀ a, (k1_off293 i v310 v315 k1_t73) a + S1x16.size a ≤ S256x128.size a) ∧
  (∀ k1_t73 : Fin (k1_t73_loop i v310 v315).trips, ∀ (k1_h37 : k1_cond37 i v310 v315 = 1#1), ∀ a, (k1_off294 i v310 v315 k1_t73) a + S1x16.size a ≤ S256x128.size a) ∧
  (∀ (k1_h37 : k1_cond37 i v310 v315 = 1#1), (k1_t74_loop i v310 v315).OK) ∧
  (∀ k1_t74 : Fin (k1_t74_loop i v310 v315).trips, ∀ (k1_h37 : k1_cond37 i v310 v315 = 1#1), ∀ a, (k1_off295 i v310 v315 k1_t74) a + S1x16.size a ≤ S256x128.size a) ∧
  (∀ k1_t74 : Fin (k1_t74_loop i v310 v315).trips, ∀ (k1_h37 : k1_cond37 i v310 v315 = 1#1), ∀ a, (k1_off296 i v310 v315 k1_t74) a + S1x16.size a ≤ S256x128.size a) ∧
  (∀ k1_t74 : Fin (k1_t74_loop i v310 v315).trips, ∀ (k1_h37 : k1_cond37 i v310 v315 = 1#1), ∀ a, (k1_off297 i v310 v315 k1_t74) a + S1x16.size a ≤ S256x128.size a) ∧
  (∀ k1_t74 : Fin (k1_t74_loop i v310 v315).trips, ∀ (k1_h37 : k1_cond37 i v310 v315 = 1#1), ∀ a, (k1_off298 i v310 v315 k1_t74) a + S1x16.size a ≤ S256x128.size a) ∧
  (∀ (k1_h69 : k1_cond69 i v310 v315 = 1#1), (k1_t137_loop i v310 v315).OK) ∧
  (∀ k1_t137 : Fin (k1_t137_loop i v310 v315).trips, ∀ (k1_h69 : k1_cond69 i v310 v315 = 1#1), ∀ a, (k1_off547 i v310 v315 k1_t137) a + S1x16.size a ≤ S256x128.size a) ∧
  (∀ k1_t137 : Fin (k1_t137_loop i v310 v315).trips, ∀ (k1_h69 : k1_cond69 i v310 v315 = 1#1), ∀ a, (k1_off548 i v310 v315 k1_t137) a + S1x16.size a ≤ S256x128.size a) ∧
  (∀ k1_t137 : Fin (k1_t137_loop i v310 v315).trips, ∀ (k1_h69 : k1_cond69 i v310 v315 = 1#1), ∀ a, (k1_off549 i v310 v315 k1_t137) a + S1x16.size a ≤ S256x128.size a) ∧
  (∀ k1_t137 : Fin (k1_t137_loop i v310 v315).trips, ∀ (k1_h69 : k1_cond69 i v310 v315 = 1#1), ∀ a, (k1_off550 i v310 v315 k1_t137) a + S1x16.size a ≤ S256x128.size a) ∧
  (∀ (k1_h69 : k1_cond69 i v310 v315 = 1#1), (k1_t138_loop i v310 v315).OK) ∧
  (∀ k1_t138 : Fin (k1_t138_loop i v310 v315).trips, ∀ (k1_h69 : k1_cond69 i v310 v315 = 1#1), ∀ a, (k1_off551 i v310 v315 k1_t138) a + S1x16.size a ≤ S256x128.size a) ∧
  (∀ k1_t138 : Fin (k1_t138_loop i v310 v315).trips, ∀ (k1_h69 : k1_cond69 i v310 v315 = 1#1), ∀ a, (k1_off552 i v310 v315 k1_t138) a + S1x16.size a ≤ S256x128.size a) ∧
  (∀ k1_t138 : Fin (k1_t138_loop i v310 v315).trips, ∀ (k1_h69 : k1_cond69 i v310 v315 = 1#1), ∀ a, (k1_off553 i v310 v315 k1_t138) a + S1x16.size a ≤ S256x128.size a) ∧
  (∀ k1_t138 : Fin (k1_t138_loop i v310 v315).trips, ∀ (k1_h69 : k1_cond69 i v310 v315 = 1#1), ∀ a, (k1_off554 i v310 v315 k1_t138) a + S1x16.size a ≤ S256x128.size a) ∧
  (∀ (k1_h101 : k1_cond101 i v310 v315 = 1#1), (k1_t201_loop i v310 v315).OK) ∧
  (∀ k1_t201 : Fin (k1_t201_loop i v310 v315).trips, ∀ (k1_h101 : k1_cond101 i v310 v315 = 1#1), ∀ a, (k1_off803 i v310 v315 k1_t201) a + S1x16.size a ≤ S256x128.size a)
def k1_chk5_1 (i : grid1.Coords) (v310 : BitVec 32) (v315 : BitVec 32) : Prop :=
  (∀ k1_t201 : Fin (k1_t201_loop i v310 v315).trips, ∀ (k1_h101 : k1_cond101 i v310 v315 = 1#1), ∀ a, (k1_off804 i v310 v315 k1_t201) a + S1x16.size a ≤ S256x128.size a) ∧
  (∀ k1_t201 : Fin (k1_t201_loop i v310 v315).trips, ∀ (k1_h101 : k1_cond101 i v310 v315 = 1#1), ∀ a, (k1_off805 i v310 v315 k1_t201) a + S1x16.size a ≤ S256x128.size a) ∧
  (∀ k1_t201 : Fin (k1_t201_loop i v310 v315).trips, ∀ (k1_h101 : k1_cond101 i v310 v315 = 1#1), ∀ a, (k1_off806 i v310 v315 k1_t201) a + S1x16.size a ≤ S256x128.size a) ∧
  (∀ (k1_h101 : k1_cond101 i v310 v315 = 1#1), (k1_t202_loop i v310 v315).OK) ∧
  (∀ k1_t202 : Fin (k1_t202_loop i v310 v315).trips, ∀ (k1_h101 : k1_cond101 i v310 v315 = 1#1), ∀ a, (k1_off807 i v310 v315 k1_t202) a + S1x16.size a ≤ S256x128.size a) ∧
  (∀ k1_t202 : Fin (k1_t202_loop i v310 v315).trips, ∀ (k1_h101 : k1_cond101 i v310 v315 = 1#1), ∀ a, (k1_off808 i v310 v315 k1_t202) a + S1x16.size a ≤ S256x128.size a) ∧
  (∀ k1_t202 : Fin (k1_t202_loop i v310 v315).trips, ∀ (k1_h101 : k1_cond101 i v310 v315 = 1#1), ∀ a, (k1_off809 i v310 v315 k1_t202) a + S1x16.size a ≤ S256x128.size a) ∧
  (∀ k1_t202 : Fin (k1_t202_loop i v310 v315).trips, ∀ (k1_h101 : k1_cond101 i v310 v315 = 1#1), ∀ a, (k1_off810 i v310 v315 k1_t202) a + S1x16.size a ≤ S256x128.size a)
def k1_chk5 (i : grid1.Coords) (v310 : BitVec 32) (v315 : BitVec 32) : Prop :=
  k1_chk5_0 i v310 v315 ∧
  k1_chk5_1 i v310 v315
theorem k1_t9_ok : ∀ (i : grid1.Coords) (v310 : BitVec 32) (v315 : BitVec 32) (k1_hw5 : k1_chk5 i v310 v315), ∀ (k1_h5 : k1_cond5 i v310 v315 = 1#1), (k1_t9_loop i v310 v315).OK := fun i v310 v315 k1_hw5 k1_h5 => k1_hw5.1.1 k1_h5
theorem k1_off34_inb : ∀ (i : grid1.Coords) (v310 : BitVec 32) (v315 : BitVec 32) (k1_hw5 : k1_chk5 i v310 v315) (k1_t9 : Fin (k1_t9_loop i v310 v315).trips), ∀ (k1_h5 : k1_cond5 i v310 v315 = 1#1), ∀ a, (k1_off34 i v310 v315 k1_t9) a + S1x16.size a ≤ S256x128.size a := fun i v310 v315 k1_hw5 k1_t9 k1_h5 => k1_hw5.1.2.1 k1_t9 k1_h5
theorem k1_off35_inb : ∀ (i : grid1.Coords) (v310 : BitVec 32) (v315 : BitVec 32) (k1_hw5 : k1_chk5 i v310 v315) (k1_t9 : Fin (k1_t9_loop i v310 v315).trips), ∀ (k1_h5 : k1_cond5 i v310 v315 = 1#1), ∀ a, (k1_off35 i v310 v315 k1_t9) a + S1x16.size a ≤ S256x128.size a := fun i v310 v315 k1_hw5 k1_t9 k1_h5 => k1_hw5.1.2.2.1 k1_t9 k1_h5
theorem k1_off36_inb : ∀ (i : grid1.Coords) (v310 : BitVec 32) (v315 : BitVec 32) (k1_hw5 : k1_chk5 i v310 v315) (k1_t9 : Fin (k1_t9_loop i v310 v315).trips), ∀ (k1_h5 : k1_cond5 i v310 v315 = 1#1), ∀ a, (k1_off36 i v310 v315 k1_t9) a + S1x16.size a ≤ S256x128.size a := fun i v310 v315 k1_hw5 k1_t9 k1_h5 => k1_hw5.1.2.2.2.1 k1_t9 k1_h5
theorem k1_off37_inb : ∀ (i : grid1.Coords) (v310 : BitVec 32) (v315 : BitVec 32) (k1_hw5 : k1_chk5 i v310 v315) (k1_t9 : Fin (k1_t9_loop i v310 v315).trips), ∀ (k1_h5 : k1_cond5 i v310 v315 = 1#1), ∀ a, (k1_off37 i v310 v315 k1_t9) a + S1x16.size a ≤ S256x128.size a := fun i v310 v315 k1_hw5 k1_t9 k1_h5 => k1_hw5.1.2.2.2.2.1 k1_t9 k1_h5
theorem k1_t10_ok : ∀ (i : grid1.Coords) (v310 : BitVec 32) (v315 : BitVec 32) (k1_hw5 : k1_chk5 i v310 v315), ∀ (k1_h5 : k1_cond5 i v310 v315 = 1#1), (k1_t10_loop i v310 v315).OK := fun i v310 v315 k1_hw5 k1_h5 => k1_hw5.1.2.2.2.2.2.1 k1_h5
theorem k1_off38_inb : ∀ (i : grid1.Coords) (v310 : BitVec 32) (v315 : BitVec 32) (k1_hw5 : k1_chk5 i v310 v315) (k1_t10 : Fin (k1_t10_loop i v310 v315).trips), ∀ (k1_h5 : k1_cond5 i v310 v315 = 1#1), ∀ a, (k1_off38 i v310 v315 k1_t10) a + S1x16.size a ≤ S256x128.size a := fun i v310 v315 k1_hw5 k1_t10 k1_h5 => k1_hw5.1.2.2.2.2.2.2.1 k1_t10 k1_h5
theorem k1_off39_inb : ∀ (i : grid1.Coords) (v310 : BitVec 32) (v315 : BitVec 32) (k1_hw5 : k1_chk5 i v310 v315) (k1_t10 : Fin (k1_t10_loop i v310 v315).trips), ∀ (k1_h5 : k1_cond5 i v310 v315 = 1#1), ∀ a, (k1_off39 i v310 v315 k1_t10) a + S1x16.size a ≤ S256x128.size a := fun i v310 v315 k1_hw5 k1_t10 k1_h5 => k1_hw5.1.2.2.2.2.2.2.2.1 k1_t10 k1_h5
theorem k1_off40_inb : ∀ (i : grid1.Coords) (v310 : BitVec 32) (v315 : BitVec 32) (k1_hw5 : k1_chk5 i v310 v315) (k1_t10 : Fin (k1_t10_loop i v310 v315).trips), ∀ (k1_h5 : k1_cond5 i v310 v315 = 1#1), ∀ a, (k1_off40 i v310 v315 k1_t10) a + S1x16.size a ≤ S256x128.size a := fun i v310 v315 k1_hw5 k1_t10 k1_h5 => k1_hw5.1.2.2.2.2.2.2.2.2.1 k1_t10 k1_h5
theorem k1_off41_inb : ∀ (i : grid1.Coords) (v310 : BitVec 32) (v315 : BitVec 32) (k1_hw5 : k1_chk5 i v310 v315) (k1_t10 : Fin (k1_t10_loop i v310 v315).trips), ∀ (k1_h5 : k1_cond5 i v310 v315 = 1#1), ∀ a, (k1_off41 i v310 v315 k1_t10) a + S1x16.size a ≤ S256x128.size a := fun i v310 v315 k1_hw5 k1_t10 k1_h5 => k1_hw5.1.2.2.2.2.2.2.2.2.2.1 k1_t10 k1_h5
theorem k1_t73_ok : ∀ (i : grid1.Coords) (v310 : BitVec 32) (v315 : BitVec 32) (k1_hw5 : k1_chk5 i v310 v315), ∀ (k1_h37 : k1_cond37 i v310 v315 = 1#1), (k1_t73_loop i v310 v315).OK := fun i v310 v315 k1_hw5 k1_h37 => k1_hw5.1.2.2.2.2.2.2.2.2.2.2.1 k1_h37
theorem k1_off291_inb : ∀ (i : grid1.Coords) (v310 : BitVec 32) (v315 : BitVec 32) (k1_hw5 : k1_chk5 i v310 v315) (k1_t73 : Fin (k1_t73_loop i v310 v315).trips), ∀ (k1_h37 : k1_cond37 i v310 v315 = 1#1), ∀ a, (k1_off291 i v310 v315 k1_t73) a + S1x16.size a ≤ S256x128.size a := fun i v310 v315 k1_hw5 k1_t73 k1_h37 => k1_hw5.1.2.2.2.2.2.2.2.2.2.2.2.1 k1_t73 k1_h37
theorem k1_off292_inb : ∀ (i : grid1.Coords) (v310 : BitVec 32) (v315 : BitVec 32) (k1_hw5 : k1_chk5 i v310 v315) (k1_t73 : Fin (k1_t73_loop i v310 v315).trips), ∀ (k1_h37 : k1_cond37 i v310 v315 = 1#1), ∀ a, (k1_off292 i v310 v315 k1_t73) a + S1x16.size a ≤ S256x128.size a := fun i v310 v315 k1_hw5 k1_t73 k1_h37 => k1_hw5.1.2.2.2.2.2.2.2.2.2.2.2.2.1 k1_t73 k1_h37
theorem k1_off293_inb : ∀ (i : grid1.Coords) (v310 : BitVec 32) (v315 : BitVec 32) (k1_hw5 : k1_chk5 i v310 v315) (k1_t73 : Fin (k1_t73_loop i v310 v315).trips), ∀ (k1_h37 : k1_cond37 i v310 v315 = 1#1), ∀ a, (k1_off293 i v310 v315 k1_t73) a + S1x16.size a ≤ S256x128.size a := fun i v310 v315 k1_hw5 k1_t73 k1_h37 => k1_hw5.1.2.2.2.2.2.2.2.2.2.2.2.2.2.1 k1_t73 k1_h37
theorem k1_off294_inb : ∀ (i : grid1.Coords) (v310 : BitVec 32) (v315 : BitVec 32) (k1_hw5 : k1_chk5 i v310 v315) (k1_t73 : Fin (k1_t73_loop i v310 v315).trips), ∀ (k1_h37 : k1_cond37 i v310 v315 = 1#1), ∀ a, (k1_off294 i v310 v315 k1_t73) a + S1x16.size a ≤ S256x128.size a := fun i v310 v315 k1_hw5 k1_t73 k1_h37 => k1_hw5.1.2.2.2.2.2.2.2.2.2.2.2.2.2.2.1 k1_t73 k1_h37
theorem k1_t74_ok : ∀ (i : grid1.Coords) (v310 : BitVec 32) (v315 : BitVec 32) (k1_hw5 : k1_chk5 i v310 v315), ∀ (k1_h37 : k1_cond37 i v310 v315 = 1#1), (k1_t74_loop i v310 v315).OK := fun i v310 v315 k1_hw5 k1_h37 => k1_hw5.1.2.2.2.2.2.2.2.2.2.2.2.2.2.2.2.1 k1_h37
theorem k1_off295_inb : ∀ (i : grid1.Coords) (v310 : BitVec 32) (v315 : BitVec 32) (k1_hw5 : k1_chk5 i v310 v315) (k1_t74 : Fin (k1_t74_loop i v310 v315).trips), ∀ (k1_h37 : k1_cond37 i v310 v315 = 1#1), ∀ a, (k1_off295 i v310 v315 k1_t74) a + S1x16.size a ≤ S256x128.size a := fun i v310 v315 k1_hw5 k1_t74 k1_h37 => k1_hw5.1.2.2.2.2.2.2.2.2.2.2.2.2.2.2.2.2.1 k1_t74 k1_h37
theorem k1_off296_inb : ∀ (i : grid1.Coords) (v310 : BitVec 32) (v315 : BitVec 32) (k1_hw5 : k1_chk5 i v310 v315) (k1_t74 : Fin (k1_t74_loop i v310 v315).trips), ∀ (k1_h37 : k1_cond37 i v310 v315 = 1#1), ∀ a, (k1_off296 i v310 v315 k1_t74) a + S1x16.size a ≤ S256x128.size a := fun i v310 v315 k1_hw5 k1_t74 k1_h37 => k1_hw5.1.2.2.2.2.2.2.2.2.2.2.2.2.2.2.2.2.2.1 k1_t74 k1_h37
theorem k1_off297_inb : ∀ (i : grid1.Coords) (v310 : BitVec 32) (v315 : BitVec 32) (k1_hw5 : k1_chk5 i v310 v315) (k1_t74 : Fin (k1_t74_loop i v310 v315).trips), ∀ (k1_h37 : k1_cond37 i v310 v315 = 1#1), ∀ a, (k1_off297 i v310 v315 k1_t74) a + S1x16.size a ≤ S256x128.size a := fun i v310 v315 k1_hw5 k1_t74 k1_h37 => k1_hw5.1.2.2.2.2.2.2.2.2.2.2.2.2.2.2.2.2.2.2.1 k1_t74 k1_h37
theorem k1_off298_inb : ∀ (i : grid1.Coords) (v310 : BitVec 32) (v315 : BitVec 32) (k1_hw5 : k1_chk5 i v310 v315) (k1_t74 : Fin (k1_t74_loop i v310 v315).trips), ∀ (k1_h37 : k1_cond37 i v310 v315 = 1#1), ∀ a, (k1_off298 i v310 v315 k1_t74) a + S1x16.size a ≤ S256x128.size a := fun i v310 v315 k1_hw5 k1_t74 k1_h37 => k1_hw5.1.2.2.2.2.2.2.2.2.2.2.2.2.2.2.2.2.2.2.2.1 k1_t74 k1_h37
theorem k1_t137_ok : ∀ (i : grid1.Coords) (v310 : BitVec 32) (v315 : BitVec 32) (k1_hw5 : k1_chk5 i v310 v315), ∀ (k1_h69 : k1_cond69 i v310 v315 = 1#1), (k1_t137_loop i v310 v315).OK := fun i v310 v315 k1_hw5 k1_h69 => k1_hw5.1.2.2.2.2.2.2.2.2.2.2.2.2.2.2.2.2.2.2.2.2.1 k1_h69
theorem k1_off547_inb : ∀ (i : grid1.Coords) (v310 : BitVec 32) (v315 : BitVec 32) (k1_hw5 : k1_chk5 i v310 v315) (k1_t137 : Fin (k1_t137_loop i v310 v315).trips), ∀ (k1_h69 : k1_cond69 i v310 v315 = 1#1), ∀ a, (k1_off547 i v310 v315 k1_t137) a + S1x16.size a ≤ S256x128.size a := fun i v310 v315 k1_hw5 k1_t137 k1_h69 => k1_hw5.1.2.2.2.2.2.2.2.2.2.2.2.2.2.2.2.2.2.2.2.2.2.1 k1_t137 k1_h69
theorem k1_off548_inb : ∀ (i : grid1.Coords) (v310 : BitVec 32) (v315 : BitVec 32) (k1_hw5 : k1_chk5 i v310 v315) (k1_t137 : Fin (k1_t137_loop i v310 v315).trips), ∀ (k1_h69 : k1_cond69 i v310 v315 = 1#1), ∀ a, (k1_off548 i v310 v315 k1_t137) a + S1x16.size a ≤ S256x128.size a := fun i v310 v315 k1_hw5 k1_t137 k1_h69 => k1_hw5.1.2.2.2.2.2.2.2.2.2.2.2.2.2.2.2.2.2.2.2.2.2.2.1 k1_t137 k1_h69
theorem k1_off549_inb : ∀ (i : grid1.Coords) (v310 : BitVec 32) (v315 : BitVec 32) (k1_hw5 : k1_chk5 i v310 v315) (k1_t137 : Fin (k1_t137_loop i v310 v315).trips), ∀ (k1_h69 : k1_cond69 i v310 v315 = 1#1), ∀ a, (k1_off549 i v310 v315 k1_t137) a + S1x16.size a ≤ S256x128.size a := fun i v310 v315 k1_hw5 k1_t137 k1_h69 => k1_hw5.1.2.2.2.2.2.2.2.2.2.2.2.2.2.2.2.2.2.2.2.2.2.2.2.1 k1_t137 k1_h69
theorem k1_off550_inb : ∀ (i : grid1.Coords) (v310 : BitVec 32) (v315 : BitVec 32) (k1_hw5 : k1_chk5 i v310 v315) (k1_t137 : Fin (k1_t137_loop i v310 v315).trips), ∀ (k1_h69 : k1_cond69 i v310 v315 = 1#1), ∀ a, (k1_off550 i v310 v315 k1_t137) a + S1x16.size a ≤ S256x128.size a := fun i v310 v315 k1_hw5 k1_t137 k1_h69 => k1_hw5.1.2.2.2.2.2.2.2.2.2.2.2.2.2.2.2.2.2.2.2.2.2.2.2.2.1 k1_t137 k1_h69
theorem k1_t138_ok : ∀ (i : grid1.Coords) (v310 : BitVec 32) (v315 : BitVec 32) (k1_hw5 : k1_chk5 i v310 v315), ∀ (k1_h69 : k1_cond69 i v310 v315 = 1#1), (k1_t138_loop i v310 v315).OK := fun i v310 v315 k1_hw5 k1_h69 => k1_hw5.1.2.2.2.2.2.2.2.2.2.2.2.2.2.2.2.2.2.2.2.2.2.2.2.2.2.1 k1_h69
theorem k1_off551_inb : ∀ (i : grid1.Coords) (v310 : BitVec 32) (v315 : BitVec 32) (k1_hw5 : k1_chk5 i v310 v315) (k1_t138 : Fin (k1_t138_loop i v310 v315).trips), ∀ (k1_h69 : k1_cond69 i v310 v315 = 1#1), ∀ a, (k1_off551 i v310 v315 k1_t138) a + S1x16.size a ≤ S256x128.size a := fun i v310 v315 k1_hw5 k1_t138 k1_h69 => k1_hw5.1.2.2.2.2.2.2.2.2.2.2.2.2.2.2.2.2.2.2.2.2.2.2.2.2.2.2.1 k1_t138 k1_h69
theorem k1_off552_inb : ∀ (i : grid1.Coords) (v310 : BitVec 32) (v315 : BitVec 32) (k1_hw5 : k1_chk5 i v310 v315) (k1_t138 : Fin (k1_t138_loop i v310 v315).trips), ∀ (k1_h69 : k1_cond69 i v310 v315 = 1#1), ∀ a, (k1_off552 i v310 v315 k1_t138) a + S1x16.size a ≤ S256x128.size a := fun i v310 v315 k1_hw5 k1_t138 k1_h69 => k1_hw5.1.2.2.2.2.2.2.2.2.2.2.2.2.2.2.2.2.2.2.2.2.2.2.2.2.2.2.2.1 k1_t138 k1_h69
theorem k1_off553_inb : ∀ (i : grid1.Coords) (v310 : BitVec 32) (v315 : BitVec 32) (k1_hw5 : k1_chk5 i v310 v315) (k1_t138 : Fin (k1_t138_loop i v310 v315).trips), ∀ (k1_h69 : k1_cond69 i v310 v315 = 1#1), ∀ a, (k1_off553 i v310 v315 k1_t138) a + S1x16.size a ≤ S256x128.size a := fun i v310 v315 k1_hw5 k1_t138 k1_h69 => k1_hw5.1.2.2.2.2.2.2.2.2.2.2.2.2.2.2.2.2.2.2.2.2.2.2.2.2.2.2.2.2.1 k1_t138 k1_h69
theorem k1_off554_inb : ∀ (i : grid1.Coords) (v310 : BitVec 32) (v315 : BitVec 32) (k1_hw5 : k1_chk5 i v310 v315) (k1_t138 : Fin (k1_t138_loop i v310 v315).trips), ∀ (k1_h69 : k1_cond69 i v310 v315 = 1#1), ∀ a, (k1_off554 i v310 v315 k1_t138) a + S1x16.size a ≤ S256x128.size a := fun i v310 v315 k1_hw5 k1_t138 k1_h69 => k1_hw5.1.2.2.2.2.2.2.2.2.2.2.2.2.2.2.2.2.2.2.2.2.2.2.2.2.2.2.2.2.2.1 k1_t138 k1_h69
theorem k1_t201_ok : ∀ (i : grid1.Coords) (v310 : BitVec 32) (v315 : BitVec 32) (k1_hw5 : k1_chk5 i v310 v315), ∀ (k1_h101 : k1_cond101 i v310 v315 = 1#1), (k1_t201_loop i v310 v315).OK := fun i v310 v315 k1_hw5 k1_h101 => k1_hw5.1.2.2.2.2.2.2.2.2.2.2.2.2.2.2.2.2.2.2.2.2.2.2.2.2.2.2.2.2.2.2.1 k1_h101
theorem k1_off803_inb : ∀ (i : grid1.Coords) (v310 : BitVec 32) (v315 : BitVec 32) (k1_hw5 : k1_chk5 i v310 v315) (k1_t201 : Fin (k1_t201_loop i v310 v315).trips), ∀ (k1_h101 : k1_cond101 i v310 v315 = 1#1), ∀ a, (k1_off803 i v310 v315 k1_t201) a + S1x16.size a ≤ S256x128.size a := fun i v310 v315 k1_hw5 k1_t201 k1_h101 => k1_hw5.1.2.2.2.2.2.2.2.2.2.2.2.2.2.2.2.2.2.2.2.2.2.2.2.2.2.2.2.2.2.2.2 k1_t201 k1_h101
theorem k1_off804_inb : ∀ (i : grid1.Coords) (v310 : BitVec 32) (v315 : BitVec 32) (k1_hw5 : k1_chk5 i v310 v315) (k1_t201 : Fin (k1_t201_loop i v310 v315).trips), ∀ (k1_h101 : k1_cond101 i v310 v315 = 1#1), ∀ a, (k1_off804 i v310 v315 k1_t201) a + S1x16.size a ≤ S256x128.size a := fun i v310 v315 k1_hw5 k1_t201 k1_h101 => k1_hw5.2.1 k1_t201 k1_h101
theorem k1_off805_inb : ∀ (i : grid1.Coords) (v310 : BitVec 32) (v315 : BitVec 32) (k1_hw5 : k1_chk5 i v310 v315) (k1_t201 : Fin (k1_t201_loop i v310 v315).trips), ∀ (k1_h101 : k1_cond101 i v310 v315 = 1#1), ∀ a, (k1_off805 i v310 v315 k1_t201) a + S1x16.size a ≤ S256x128.size a := fun i v310 v315 k1_hw5 k1_t201 k1_h101 => k1_hw5.2.2.1 k1_t201 k1_h101
theorem k1_off806_inb : ∀ (i : grid1.Coords) (v310 : BitVec 32) (v315 : BitVec 32) (k1_hw5 : k1_chk5 i v310 v315) (k1_t201 : Fin (k1_t201_loop i v310 v315).trips), ∀ (k1_h101 : k1_cond101 i v310 v315 = 1#1), ∀ a, (k1_off806 i v310 v315 k1_t201) a + S1x16.size a ≤ S256x128.size a := fun i v310 v315 k1_hw5 k1_t201 k1_h101 => k1_hw5.2.2.2.1 k1_t201 k1_h101
theorem k1_t202_ok : ∀ (i : grid1.Coords) (v310 : BitVec 32) (v315 : BitVec 32) (k1_hw5 : k1_chk5 i v310 v315), ∀ (k1_h101 : k1_cond101 i v310 v315 = 1#1), (k1_t202_loop i v310 v315).OK := fun i v310 v315 k1_hw5 k1_h101 => k1_hw5.2.2.2.2.1 k1_h101
theorem k1_off807_inb : ∀ (i : grid1.Coords) (v310 : BitVec 32) (v315 : BitVec 32) (k1_hw5 : k1_chk5 i v310 v315) (k1_t202 : Fin (k1_t202_loop i v310 v315).trips), ∀ (k1_h101 : k1_cond101 i v310 v315 = 1#1), ∀ a, (k1_off807 i v310 v315 k1_t202) a + S1x16.size a ≤ S256x128.size a := fun i v310 v315 k1_hw5 k1_t202 k1_h101 => k1_hw5.2.2.2.2.2.1 k1_t202 k1_h101
theorem k1_off808_inb : ∀ (i : grid1.Coords) (v310 : BitVec 32) (v315 : BitVec 32) (k1_hw5 : k1_chk5 i v310 v315) (k1_t202 : Fin (k1_t202_loop i v310 v315).trips), ∀ (k1_h101 : k1_cond101 i v310 v315 = 1#1), ∀ a, (k1_off808 i v310 v315 k1_t202) a + S1x16.size a ≤ S256x128.size a := fun i v310 v315 k1_hw5 k1_t202 k1_h101 => k1_hw5.2.2.2.2.2.2.1 k1_t202 k1_h101
theorem k1_off809_inb : ∀ (i : grid1.Coords) (v310 : BitVec 32) (v315 : BitVec 32) (k1_hw5 : k1_chk5 i v310 v315) (k1_t202 : Fin (k1_t202_loop i v310 v315).trips), ∀ (k1_h101 : k1_cond101 i v310 v315 = 1#1), ∀ a, (k1_off809 i v310 v315 k1_t202) a + S1x16.size a ≤ S256x128.size a := fun i v310 v315 k1_hw5 k1_t202 k1_h101 => k1_hw5.2.2.2.2.2.2.2.1 k1_t202 k1_h101
theorem k1_off810_inb : ∀ (i : grid1.Coords) (v310 : BitVec 32) (v315 : BitVec 32) (k1_hw5 : k1_chk5 i v310 v315) (k1_t202 : Fin (k1_t202_loop i v310 v315).trips), ∀ (k1_h101 : k1_cond101 i v310 v315 = 1#1), ∀ a, (k1_off810 i v310 v315 k1_t202) a + S1x16.size a ≤ S256x128.size a := fun i v310 v315 k1_hw5 k1_t202 k1_h101 => k1_hw5.2.2.2.2.2.2.2.2 k1_t202 k1_h101

@[reducible] def k1_t203_loop (i : grid1.Coords) (v320 : BitVec 32) (v326 : BitVec 32) : Scf.Loop 32 :=
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let c256_i32_1004 : BitVec 32 := 256#32
  let c0_i32_1003 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c768_i32_1002 : BitVec 32 := 768#32
  let v1553 : BitVec 32 := Scalar.subi v330 c768_i32_1002
  let v1554 : BitVec 32 := Scalar.maxsi c0_i32_1003 v1553
  let v1555 : BitVec 32 := Scalar.minsi c256_i32_1004 v1554
  let v1805 : BitVec 32 := Scalar.subi v1555 v1552
  let c1_i32_1196 : BitVec 32 := 1#32
  let v1807 : BitVec 32 := Scalar.divsi v1805 c1_i32_1196
  let v1808 : BitVec 32 := Scalar.muli v1807 c1_i32_1196
  let v1809 : BitVec 32 := Scalar.addi v1552 v1808
  let c1_i32_1197 : BitVec 32 := 1#32
  ⟨v1552, v1809, c1_i32_1197⟩
def k1_cond102 (i : grid1.Coords) (v320 : BitVec 32) (v326 : BitVec 32) : BitVec 1 :=
  let c256_i32_1004 : BitVec 32 := 256#32
  let c0_i32_1003 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v328 : BitVec 32 := Scalar.subi v327 v3
  let v329 : BitVec 32 := Scalar.maxsi c0_i32_139 v328
  let v330 : BitVec 32 := Scalar.minsi c1024_i32_140 v329
  let c768_i32_1002 : BitVec 32 := 768#32
  let v1553 : BitVec 32 := Scalar.subi v330 c768_i32_1002
  let v1554 : BitVec 32 := Scalar.maxsi c0_i32_1003 v1553
  let v1555 : BitVec 32 := Scalar.minsi c256_i32_1004 v1554
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let v1556 : BitVec 1 := Scalar.cmpi .sgt v1555 v1552
  let v1557 : BitVec 32 := Scalar.extui v1556
  let c0_i32_1005 : BitVec 32 := 0#32
  let v1558 : BitVec 1 := Scalar.cmpi .ne v1557 c0_i32_1005
  v1558

def k1_off811 (i : grid1.Coords) (v320 : BitVec 32) (v326 : BitVec 32) (k1_t203 : Fin (k1_t203_loop i v320 v326).trips) : Fin 2 → Nat :=
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let c1_i32_1197 : BitVec 32 := 1#32
  let arg13 : BitVec 32 := Scf.iv v1552 c1_i32_1197 k1_t203
  let v1828 : Index := Scalar.indexCast arg13
  let c64 : Index := 64#32
  ![v1828.toNat, 64]
def k1_off812 (i : grid1.Coords) (v320 : BitVec 32) (v326 : BitVec 32) (k1_t203 : Fin (k1_t203_loop i v320 v326).trips) : Fin 2 → Nat :=
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let c1_i32_1197 : BitVec 32 := 1#32
  let arg13 : BitVec 32 := Scf.iv v1552 c1_i32_1197 k1_t203
  let v1832 : Index := Scalar.indexCast arg13
  let c80 : Index := 80#32
  ![v1832.toNat, 80]
def k1_off813 (i : grid1.Coords) (v320 : BitVec 32) (v326 : BitVec 32) (k1_t203 : Fin (k1_t203_loop i v320 v326).trips) : Fin 2 → Nat :=
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let c1_i32_1197 : BitVec 32 := 1#32
  let arg13 : BitVec 32 := Scf.iv v1552 c1_i32_1197 k1_t203
  let v1836 : Index := Scalar.indexCast arg13
  let c96 : Index := 96#32
  ![v1836.toNat, 96]
def k1_off814 (i : grid1.Coords) (v320 : BitVec 32) (v326 : BitVec 32) (k1_t203 : Fin (k1_t203_loop i v320 v326).trips) : Fin 2 → Nat :=
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let c1_i32_1197 : BitVec 32 := 1#32
  let arg13 : BitVec 32 := Scf.iv v1552 c1_i32_1197 k1_t203
  let v1840 : Index := Scalar.indexCast arg13
  let c112 : Index := 112#32
  ![v1840.toNat, 112]
@[reducible] def k1_t204_loop (i : grid1.Coords) (v320 : BitVec 32) (v326 : BitVec 32) : Scf.Loop 32 :=
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let c256_i32_1004 : BitVec 32 := 256#32
  let c0_i32_1003 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c768_i32_1002 : BitVec 32 := 768#32
  let v1553 : BitVec 32 := Scalar.subi v330 c768_i32_1002
  let v1554 : BitVec 32 := Scalar.maxsi c0_i32_1003 v1553
  let v1555 : BitVec 32 := Scalar.minsi c256_i32_1004 v1554
  let v1805 : BitVec 32 := Scalar.subi v1555 v1552
  let c1_i32_1196 : BitVec 32 := 1#32
  let v1807 : BitVec 32 := Scalar.divsi v1805 c1_i32_1196
  let v1808 : BitVec 32 := Scalar.muli v1807 c1_i32_1196
  let v1809 : BitVec 32 := Scalar.addi v1552 v1808
  let v1806 : BitVec 32 := Scalar.addi v1552 v1805
  let c1_i32_1198 : BitVec 32 := 1#32
  ⟨v1809, v1806, c1_i32_1198⟩
def k1_off815 (i : grid1.Coords) (v320 : BitVec 32) (v326 : BitVec 32) (k1_t204 : Fin (k1_t204_loop i v320 v326).trips) : Fin 2 → Nat :=
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let c256_i32_1004 : BitVec 32 := 256#32
  let c0_i32_1003 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c768_i32_1002 : BitVec 32 := 768#32
  let v1553 : BitVec 32 := Scalar.subi v330 c768_i32_1002
  let v1554 : BitVec 32 := Scalar.maxsi c0_i32_1003 v1553
  let v1555 : BitVec 32 := Scalar.minsi c256_i32_1004 v1554
  let v1805 : BitVec 32 := Scalar.subi v1555 v1552
  let c1_i32_1196 : BitVec 32 := 1#32
  let v1807 : BitVec 32 := Scalar.divsi v1805 c1_i32_1196
  let v1808 : BitVec 32 := Scalar.muli v1807 c1_i32_1196
  let v1809 : BitVec 32 := Scalar.addi v1552 v1808
  let c1_i32_1198 : BitVec 32 := 1#32
  let arg13 : BitVec 32 := Scf.iv v1809 c1_i32_1198 k1_t204
  let v1828 : Index := Scalar.indexCast arg13
  let c64 : Index := 64#32
  ![v1828.toNat, 64]
def k1_off816 (i : grid1.Coords) (v320 : BitVec 32) (v326 : BitVec 32) (k1_t204 : Fin (k1_t204_loop i v320 v326).trips) : Fin 2 → Nat :=
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let c256_i32_1004 : BitVec 32 := 256#32
  let c0_i32_1003 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c768_i32_1002 : BitVec 32 := 768#32
  let v1553 : BitVec 32 := Scalar.subi v330 c768_i32_1002
  let v1554 : BitVec 32 := Scalar.maxsi c0_i32_1003 v1553
  let v1555 : BitVec 32 := Scalar.minsi c256_i32_1004 v1554
  let v1805 : BitVec 32 := Scalar.subi v1555 v1552
  let c1_i32_1196 : BitVec 32 := 1#32
  let v1807 : BitVec 32 := Scalar.divsi v1805 c1_i32_1196
  let v1808 : BitVec 32 := Scalar.muli v1807 c1_i32_1196
  let v1809 : BitVec 32 := Scalar.addi v1552 v1808
  let c1_i32_1198 : BitVec 32 := 1#32
  let arg13 : BitVec 32 := Scf.iv v1809 c1_i32_1198 k1_t204
  let v1832 : Index := Scalar.indexCast arg13
  let c80 : Index := 80#32
  ![v1832.toNat, 80]
def k1_off817 (i : grid1.Coords) (v320 : BitVec 32) (v326 : BitVec 32) (k1_t204 : Fin (k1_t204_loop i v320 v326).trips) : Fin 2 → Nat :=
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let c256_i32_1004 : BitVec 32 := 256#32
  let c0_i32_1003 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c768_i32_1002 : BitVec 32 := 768#32
  let v1553 : BitVec 32 := Scalar.subi v330 c768_i32_1002
  let v1554 : BitVec 32 := Scalar.maxsi c0_i32_1003 v1553
  let v1555 : BitVec 32 := Scalar.minsi c256_i32_1004 v1554
  let v1805 : BitVec 32 := Scalar.subi v1555 v1552
  let c1_i32_1196 : BitVec 32 := 1#32
  let v1807 : BitVec 32 := Scalar.divsi v1805 c1_i32_1196
  let v1808 : BitVec 32 := Scalar.muli v1807 c1_i32_1196
  let v1809 : BitVec 32 := Scalar.addi v1552 v1808
  let c1_i32_1198 : BitVec 32 := 1#32
  let arg13 : BitVec 32 := Scf.iv v1809 c1_i32_1198 k1_t204
  let v1836 : Index := Scalar.indexCast arg13
  let c96 : Index := 96#32
  ![v1836.toNat, 96]
def k1_off818 (i : grid1.Coords) (v320 : BitVec 32) (v326 : BitVec 32) (k1_t204 : Fin (k1_t204_loop i v320 v326).trips) : Fin 2 → Nat :=
  let c256_i32_1001 : BitVec 32 := 256#32
  let c0_i32_1000 : BitVec 32 := 0#32
  let c1024_i32_137 : BitVec 32 := 1024#32
  let c0_i32_136 : BitVec 32 := 0#32
  let c65536_i32_135 : BitVec 32 := 65536#32
  let v321 : BitVec 32 := Scalar.subi v320 c65536_i32_135
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v322 : BitVec 32 := Scalar.subi v321 v3
  let v323 : BitVec 32 := Scalar.maxsi c0_i32_136 v322
  let v324 : BitVec 32 := Scalar.minsi c1024_i32_137 v323
  let c768_i32_999 : BitVec 32 := 768#32
  let v1550 : BitVec 32 := Scalar.subi v324 c768_i32_999
  let v1551 : BitVec 32 := Scalar.maxsi c0_i32_1000 v1550
  let v1552 : BitVec 32 := Scalar.minsi c256_i32_1001 v1551
  let c256_i32_1004 : BitVec 32 := 256#32
  let c0_i32_1003 : BitVec 32 := 0#32
  let c1024_i32_140 : BitVec 32 := 1024#32
  let c0_i32_139 : BitVec 32 := 0#32
  let c65536_i32_138 : BitVec 32 := 65536#32
  let v327 : BitVec 32 := Scalar.subi v326 c65536_i32_138
  let v328 : BitVec 32 := Scalar.subi v327 v3
  let v329 : BitVec 32 := Scalar.maxsi c0_i32_139 v328
  let v330 : BitVec 32 := Scalar.minsi c1024_i32_140 v329
  let c768_i32_1002 : BitVec 32 := 768#32
  let v1553 : BitVec 32 := Scalar.subi v330 c768_i32_1002
  let v1554 : BitVec 32 := Scalar.maxsi c0_i32_1003 v1553
  let v1555 : BitVec 32 := Scalar.minsi c256_i32_1004 v1554
  let v1805 : BitVec 32 := Scalar.subi v1555 v1552
  let c1_i32_1196 : BitVec 32 := 1#32
  let v1807 : BitVec 32 := Scalar.divsi v1805 c1_i32_1196
  let v1808 : BitVec 32 := Scalar.muli v1807 c1_i32_1196
  let v1809 : BitVec 32 := Scalar.addi v1552 v1808
  let c1_i32_1198 : BitVec 32 := 1#32
  let arg13 : BitVec 32 := Scf.iv v1809 c1_i32_1198 k1_t204
  let v1840 : Index := Scalar.indexCast arg13
  let c112 : Index := 112#32
  ![v1840.toNat, 112]

def k1_chk6_0 (i : grid1.Coords) (v320 : BitVec 32) (v326 : BitVec 32) : Prop :=
  (∀ (k1_h6 : k1_cond6 i v320 v326 = 1#1), (k1_t11_loop i v320 v326).OK) ∧
  (∀ k1_t11 : Fin (k1_t11_loop i v320 v326).trips, ∀ (k1_h6 : k1_cond6 i v320 v326 = 1#1), ∀ a, (k1_off42 i v320 v326 k1_t11) a + S1x16.size a ≤ S256x128.size a) ∧
  (∀ k1_t11 : Fin (k1_t11_loop i v320 v326).trips, ∀ (k1_h6 : k1_cond6 i v320 v326 = 1#1), ∀ a, (k1_off43 i v320 v326 k1_t11) a + S1x16.size a ≤ S256x128.size a) ∧
  (∀ k1_t11 : Fin (k1_t11_loop i v320 v326).trips, ∀ (k1_h6 : k1_cond6 i v320 v326 = 1#1), ∀ a, (k1_off44 i v320 v326 k1_t11) a + S1x16.size a ≤ S256x128.size a) ∧
  (∀ k1_t11 : Fin (k1_t11_loop i v320 v326).trips, ∀ (k1_h6 : k1_cond6 i v320 v326 = 1#1), ∀ a, (k1_off45 i v320 v326 k1_t11) a + S1x16.size a ≤ S256x128.size a) ∧
  (∀ (k1_h6 : k1_cond6 i v320 v326 = 1#1), (k1_t12_loop i v320 v326).OK) ∧
  (∀ k1_t12 : Fin (k1_t12_loop i v320 v326).trips, ∀ (k1_h6 : k1_cond6 i v320 v326 = 1#1), ∀ a, (k1_off46 i v320 v326 k1_t12) a + S1x16.size a ≤ S256x128.size a) ∧
  (∀ k1_t12 : Fin (k1_t12_loop i v320 v326).trips, ∀ (k1_h6 : k1_cond6 i v320 v326 = 1#1), ∀ a, (k1_off47 i v320 v326 k1_t12) a + S1x16.size a ≤ S256x128.size a) ∧
  (∀ k1_t12 : Fin (k1_t12_loop i v320 v326).trips, ∀ (k1_h6 : k1_cond6 i v320 v326 = 1#1), ∀ a, (k1_off48 i v320 v326 k1_t12) a + S1x16.size a ≤ S256x128.size a) ∧
  (∀ k1_t12 : Fin (k1_t12_loop i v320 v326).trips, ∀ (k1_h6 : k1_cond6 i v320 v326 = 1#1), ∀ a, (k1_off49 i v320 v326 k1_t12) a + S1x16.size a ≤ S256x128.size a) ∧
  (∀ (k1_h38 : k1_cond38 i v320 v326 = 1#1), (k1_t75_loop i v320 v326).OK) ∧
  (∀ k1_t75 : Fin (k1_t75_loop i v320 v326).trips, ∀ (k1_h38 : k1_cond38 i v320 v326 = 1#1), ∀ a, (k1_off299 i v320 v326 k1_t75) a + S1x16.size a ≤ S256x128.size a) ∧
  (∀ k1_t75 : Fin (k1_t75_loop i v320 v326).trips, ∀ (k1_h38 : k1_cond38 i v320 v326 = 1#1), ∀ a, (k1_off300 i v320 v326 k1_t75) a + S1x16.size a ≤ S256x128.size a) ∧
  (∀ k1_t75 : Fin (k1_t75_loop i v320 v326).trips, ∀ (k1_h38 : k1_cond38 i v320 v326 = 1#1), ∀ a, (k1_off301 i v320 v326 k1_t75) a + S1x16.size a ≤ S256x128.size a) ∧
  (∀ k1_t75 : Fin (k1_t75_loop i v320 v326).trips, ∀ (k1_h38 : k1_cond38 i v320 v326 = 1#1), ∀ a, (k1_off302 i v320 v326 k1_t75) a + S1x16.size a ≤ S256x128.size a) ∧
  (∀ (k1_h38 : k1_cond38 i v320 v326 = 1#1), (k1_t76_loop i v320 v326).OK) ∧
  (∀ k1_t76 : Fin (k1_t76_loop i v320 v326).trips, ∀ (k1_h38 : k1_cond38 i v320 v326 = 1#1), ∀ a, (k1_off303 i v320 v326 k1_t76) a + S1x16.size a ≤ S256x128.size a) ∧
  (∀ k1_t76 : Fin (k1_t76_loop i v320 v326).trips, ∀ (k1_h38 : k1_cond38 i v320 v326 = 1#1), ∀ a, (k1_off304 i v320 v326 k1_t76) a + S1x16.size a ≤ S256x128.size a) ∧
  (∀ k1_t76 : Fin (k1_t76_loop i v320 v326).trips, ∀ (k1_h38 : k1_cond38 i v320 v326 = 1#1), ∀ a, (k1_off305 i v320 v326 k1_t76) a + S1x16.size a ≤ S256x128.size a) ∧
  (∀ k1_t76 : Fin (k1_t76_loop i v320 v326).trips, ∀ (k1_h38 : k1_cond38 i v320 v326 = 1#1), ∀ a, (k1_off306 i v320 v326 k1_t76) a + S1x16.size a ≤ S256x128.size a) ∧
  (∀ (k1_h70 : k1_cond70 i v320 v326 = 1#1), (k1_t139_loop i v320 v326).OK) ∧
  (∀ k1_t139 : Fin (k1_t139_loop i v320 v326).trips, ∀ (k1_h70 : k1_cond70 i v320 v326 = 1#1), ∀ a, (k1_off555 i v320 v326 k1_t139) a + S1x16.size a ≤ S256x128.size a) ∧
  (∀ k1_t139 : Fin (k1_t139_loop i v320 v326).trips, ∀ (k1_h70 : k1_cond70 i v320 v326 = 1#1), ∀ a, (k1_off556 i v320 v326 k1_t139) a + S1x16.size a ≤ S256x128.size a) ∧
  (∀ k1_t139 : Fin (k1_t139_loop i v320 v326).trips, ∀ (k1_h70 : k1_cond70 i v320 v326 = 1#1), ∀ a, (k1_off557 i v320 v326 k1_t139) a + S1x16.size a ≤ S256x128.size a) ∧
  (∀ k1_t139 : Fin (k1_t139_loop i v320 v326).trips, ∀ (k1_h70 : k1_cond70 i v320 v326 = 1#1), ∀ a, (k1_off558 i v320 v326 k1_t139) a + S1x16.size a ≤ S256x128.size a) ∧
  (∀ (k1_h70 : k1_cond70 i v320 v326 = 1#1), (k1_t140_loop i v320 v326).OK) ∧
  (∀ k1_t140 : Fin (k1_t140_loop i v320 v326).trips, ∀ (k1_h70 : k1_cond70 i v320 v326 = 1#1), ∀ a, (k1_off559 i v320 v326 k1_t140) a + S1x16.size a ≤ S256x128.size a) ∧
  (∀ k1_t140 : Fin (k1_t140_loop i v320 v326).trips, ∀ (k1_h70 : k1_cond70 i v320 v326 = 1#1), ∀ a, (k1_off560 i v320 v326 k1_t140) a + S1x16.size a ≤ S256x128.size a) ∧
  (∀ k1_t140 : Fin (k1_t140_loop i v320 v326).trips, ∀ (k1_h70 : k1_cond70 i v320 v326 = 1#1), ∀ a, (k1_off561 i v320 v326 k1_t140) a + S1x16.size a ≤ S256x128.size a) ∧
  (∀ k1_t140 : Fin (k1_t140_loop i v320 v326).trips, ∀ (k1_h70 : k1_cond70 i v320 v326 = 1#1), ∀ a, (k1_off562 i v320 v326 k1_t140) a + S1x16.size a ≤ S256x128.size a) ∧
  (∀ (k1_h102 : k1_cond102 i v320 v326 = 1#1), (k1_t203_loop i v320 v326).OK) ∧
  (∀ k1_t203 : Fin (k1_t203_loop i v320 v326).trips, ∀ (k1_h102 : k1_cond102 i v320 v326 = 1#1), ∀ a, (k1_off811 i v320 v326 k1_t203) a + S1x16.size a ≤ S256x128.size a)
def k1_chk6_1 (i : grid1.Coords) (v320 : BitVec 32) (v326 : BitVec 32) : Prop :=
  (∀ k1_t203 : Fin (k1_t203_loop i v320 v326).trips, ∀ (k1_h102 : k1_cond102 i v320 v326 = 1#1), ∀ a, (k1_off812 i v320 v326 k1_t203) a + S1x16.size a ≤ S256x128.size a) ∧
  (∀ k1_t203 : Fin (k1_t203_loop i v320 v326).trips, ∀ (k1_h102 : k1_cond102 i v320 v326 = 1#1), ∀ a, (k1_off813 i v320 v326 k1_t203) a + S1x16.size a ≤ S256x128.size a) ∧
  (∀ k1_t203 : Fin (k1_t203_loop i v320 v326).trips, ∀ (k1_h102 : k1_cond102 i v320 v326 = 1#1), ∀ a, (k1_off814 i v320 v326 k1_t203) a + S1x16.size a ≤ S256x128.size a) ∧
  (∀ (k1_h102 : k1_cond102 i v320 v326 = 1#1), (k1_t204_loop i v320 v326).OK) ∧
  (∀ k1_t204 : Fin (k1_t204_loop i v320 v326).trips, ∀ (k1_h102 : k1_cond102 i v320 v326 = 1#1), ∀ a, (k1_off815 i v320 v326 k1_t204) a + S1x16.size a ≤ S256x128.size a) ∧
  (∀ k1_t204 : Fin (k1_t204_loop i v320 v326).trips, ∀ (k1_h102 : k1_cond102 i v320 v326 = 1#1), ∀ a, (k1_off816 i v320 v326 k1_t204) a + S1x16.size a ≤ S256x128.size a) ∧
  (∀ k1_t204 : Fin (k1_t204_loop i v320 v326).trips, ∀ (k1_h102 : k1_cond102 i v320 v326 = 1#1), ∀ a, (k1_off817 i v320 v326 k1_t204) a + S1x16.size a ≤ S256x128.size a) ∧
  (∀ k1_t204 : Fin (k1_t204_loop i v320 v326).trips, ∀ (k1_h102 : k1_cond102 i v320 v326 = 1#1), ∀ a, (k1_off818 i v320 v326 k1_t204) a + S1x16.size a ≤ S256x128.size a)
def k1_chk6 (i : grid1.Coords) (v320 : BitVec 32) (v326 : BitVec 32) : Prop :=
  k1_chk6_0 i v320 v326 ∧
  k1_chk6_1 i v320 v326
theorem k1_t11_ok : ∀ (i : grid1.Coords) (v320 : BitVec 32) (v326 : BitVec 32) (k1_hw6 : k1_chk6 i v320 v326), ∀ (k1_h6 : k1_cond6 i v320 v326 = 1#1), (k1_t11_loop i v320 v326).OK := fun i v320 v326 k1_hw6 k1_h6 => k1_hw6.1.1 k1_h6
theorem k1_off42_inb : ∀ (i : grid1.Coords) (v320 : BitVec 32) (v326 : BitVec 32) (k1_hw6 : k1_chk6 i v320 v326) (k1_t11 : Fin (k1_t11_loop i v320 v326).trips), ∀ (k1_h6 : k1_cond6 i v320 v326 = 1#1), ∀ a, (k1_off42 i v320 v326 k1_t11) a + S1x16.size a ≤ S256x128.size a := fun i v320 v326 k1_hw6 k1_t11 k1_h6 => k1_hw6.1.2.1 k1_t11 k1_h6
theorem k1_off43_inb : ∀ (i : grid1.Coords) (v320 : BitVec 32) (v326 : BitVec 32) (k1_hw6 : k1_chk6 i v320 v326) (k1_t11 : Fin (k1_t11_loop i v320 v326).trips), ∀ (k1_h6 : k1_cond6 i v320 v326 = 1#1), ∀ a, (k1_off43 i v320 v326 k1_t11) a + S1x16.size a ≤ S256x128.size a := fun i v320 v326 k1_hw6 k1_t11 k1_h6 => k1_hw6.1.2.2.1 k1_t11 k1_h6
theorem k1_off44_inb : ∀ (i : grid1.Coords) (v320 : BitVec 32) (v326 : BitVec 32) (k1_hw6 : k1_chk6 i v320 v326) (k1_t11 : Fin (k1_t11_loop i v320 v326).trips), ∀ (k1_h6 : k1_cond6 i v320 v326 = 1#1), ∀ a, (k1_off44 i v320 v326 k1_t11) a + S1x16.size a ≤ S256x128.size a := fun i v320 v326 k1_hw6 k1_t11 k1_h6 => k1_hw6.1.2.2.2.1 k1_t11 k1_h6
theorem k1_off45_inb : ∀ (i : grid1.Coords) (v320 : BitVec 32) (v326 : BitVec 32) (k1_hw6 : k1_chk6 i v320 v326) (k1_t11 : Fin (k1_t11_loop i v320 v326).trips), ∀ (k1_h6 : k1_cond6 i v320 v326 = 1#1), ∀ a, (k1_off45 i v320 v326 k1_t11) a + S1x16.size a ≤ S256x128.size a := fun i v320 v326 k1_hw6 k1_t11 k1_h6 => k1_hw6.1.2.2.2.2.1 k1_t11 k1_h6
theorem k1_t12_ok : ∀ (i : grid1.Coords) (v320 : BitVec 32) (v326 : BitVec 32) (k1_hw6 : k1_chk6 i v320 v326), ∀ (k1_h6 : k1_cond6 i v320 v326 = 1#1), (k1_t12_loop i v320 v326).OK := fun i v320 v326 k1_hw6 k1_h6 => k1_hw6.1.2.2.2.2.2.1 k1_h6
theorem k1_off46_inb : ∀ (i : grid1.Coords) (v320 : BitVec 32) (v326 : BitVec 32) (k1_hw6 : k1_chk6 i v320 v326) (k1_t12 : Fin (k1_t12_loop i v320 v326).trips), ∀ (k1_h6 : k1_cond6 i v320 v326 = 1#1), ∀ a, (k1_off46 i v320 v326 k1_t12) a + S1x16.size a ≤ S256x128.size a := fun i v320 v326 k1_hw6 k1_t12 k1_h6 => k1_hw6.1.2.2.2.2.2.2.1 k1_t12 k1_h6
theorem k1_off47_inb : ∀ (i : grid1.Coords) (v320 : BitVec 32) (v326 : BitVec 32) (k1_hw6 : k1_chk6 i v320 v326) (k1_t12 : Fin (k1_t12_loop i v320 v326).trips), ∀ (k1_h6 : k1_cond6 i v320 v326 = 1#1), ∀ a, (k1_off47 i v320 v326 k1_t12) a + S1x16.size a ≤ S256x128.size a := fun i v320 v326 k1_hw6 k1_t12 k1_h6 => k1_hw6.1.2.2.2.2.2.2.2.1 k1_t12 k1_h6
theorem k1_off48_inb : ∀ (i : grid1.Coords) (v320 : BitVec 32) (v326 : BitVec 32) (k1_hw6 : k1_chk6 i v320 v326) (k1_t12 : Fin (k1_t12_loop i v320 v326).trips), ∀ (k1_h6 : k1_cond6 i v320 v326 = 1#1), ∀ a, (k1_off48 i v320 v326 k1_t12) a + S1x16.size a ≤ S256x128.size a := fun i v320 v326 k1_hw6 k1_t12 k1_h6 => k1_hw6.1.2.2.2.2.2.2.2.2.1 k1_t12 k1_h6
theorem k1_off49_inb : ∀ (i : grid1.Coords) (v320 : BitVec 32) (v326 : BitVec 32) (k1_hw6 : k1_chk6 i v320 v326) (k1_t12 : Fin (k1_t12_loop i v320 v326).trips), ∀ (k1_h6 : k1_cond6 i v320 v326 = 1#1), ∀ a, (k1_off49 i v320 v326 k1_t12) a + S1x16.size a ≤ S256x128.size a := fun i v320 v326 k1_hw6 k1_t12 k1_h6 => k1_hw6.1.2.2.2.2.2.2.2.2.2.1 k1_t12 k1_h6
theorem k1_t75_ok : ∀ (i : grid1.Coords) (v320 : BitVec 32) (v326 : BitVec 32) (k1_hw6 : k1_chk6 i v320 v326), ∀ (k1_h38 : k1_cond38 i v320 v326 = 1#1), (k1_t75_loop i v320 v326).OK := fun i v320 v326 k1_hw6 k1_h38 => k1_hw6.1.2.2.2.2.2.2.2.2.2.2.1 k1_h38
theorem k1_off299_inb : ∀ (i : grid1.Coords) (v320 : BitVec 32) (v326 : BitVec 32) (k1_hw6 : k1_chk6 i v320 v326) (k1_t75 : Fin (k1_t75_loop i v320 v326).trips), ∀ (k1_h38 : k1_cond38 i v320 v326 = 1#1), ∀ a, (k1_off299 i v320 v326 k1_t75) a + S1x16.size a ≤ S256x128.size a := fun i v320 v326 k1_hw6 k1_t75 k1_h38 => k1_hw6.1.2.2.2.2.2.2.2.2.2.2.2.1 k1_t75 k1_h38
theorem k1_off300_inb : ∀ (i : grid1.Coords) (v320 : BitVec 32) (v326 : BitVec 32) (k1_hw6 : k1_chk6 i v320 v326) (k1_t75 : Fin (k1_t75_loop i v320 v326).trips), ∀ (k1_h38 : k1_cond38 i v320 v326 = 1#1), ∀ a, (k1_off300 i v320 v326 k1_t75) a + S1x16.size a ≤ S256x128.size a := fun i v320 v326 k1_hw6 k1_t75 k1_h38 => k1_hw6.1.2.2.2.2.2.2.2.2.2.2.2.2.1 k1_t75 k1_h38
theorem k1_off301_inb : ∀ (i : grid1.Coords) (v320 : BitVec 32) (v326 : BitVec 32) (k1_hw6 : k1_chk6 i v320 v326) (k1_t75 : Fin (k1_t75_loop i v320 v326).trips), ∀ (k1_h38 : k1_cond38 i v320 v326 = 1#1), ∀ a, (k1_off301 i v320 v326 k1_t75) a + S1x16.size a ≤ S256x128.size a := fun i v320 v326 k1_hw6 k1_t75 k1_h38 => k1_hw6.1.2.2.2.2.2.2.2.2.2.2.2.2.2.1 k1_t75 k1_h38
theorem k1_off302_inb : ∀ (i : grid1.Coords) (v320 : BitVec 32) (v326 : BitVec 32) (k1_hw6 : k1_chk6 i v320 v326) (k1_t75 : Fin (k1_t75_loop i v320 v326).trips), ∀ (k1_h38 : k1_cond38 i v320 v326 = 1#1), ∀ a, (k1_off302 i v320 v326 k1_t75) a + S1x16.size a ≤ S256x128.size a := fun i v320 v326 k1_hw6 k1_t75 k1_h38 => k1_hw6.1.2.2.2.2.2.2.2.2.2.2.2.2.2.2.1 k1_t75 k1_h38
theorem k1_t76_ok : ∀ (i : grid1.Coords) (v320 : BitVec 32) (v326 : BitVec 32) (k1_hw6 : k1_chk6 i v320 v326), ∀ (k1_h38 : k1_cond38 i v320 v326 = 1#1), (k1_t76_loop i v320 v326).OK := fun i v320 v326 k1_hw6 k1_h38 => k1_hw6.1.2.2.2.2.2.2.2.2.2.2.2.2.2.2.2.1 k1_h38
theorem k1_off303_inb : ∀ (i : grid1.Coords) (v320 : BitVec 32) (v326 : BitVec 32) (k1_hw6 : k1_chk6 i v320 v326) (k1_t76 : Fin (k1_t76_loop i v320 v326).trips), ∀ (k1_h38 : k1_cond38 i v320 v326 = 1#1), ∀ a, (k1_off303 i v320 v326 k1_t76) a + S1x16.size a ≤ S256x128.size a := fun i v320 v326 k1_hw6 k1_t76 k1_h38 => k1_hw6.1.2.2.2.2.2.2.2.2.2.2.2.2.2.2.2.2.1 k1_t76 k1_h38
theorem k1_off304_inb : ∀ (i : grid1.Coords) (v320 : BitVec 32) (v326 : BitVec 32) (k1_hw6 : k1_chk6 i v320 v326) (k1_t76 : Fin (k1_t76_loop i v320 v326).trips), ∀ (k1_h38 : k1_cond38 i v320 v326 = 1#1), ∀ a, (k1_off304 i v320 v326 k1_t76) a + S1x16.size a ≤ S256x128.size a := fun i v320 v326 k1_hw6 k1_t76 k1_h38 => k1_hw6.1.2.2.2.2.2.2.2.2.2.2.2.2.2.2.2.2.2.1 k1_t76 k1_h38
theorem k1_off305_inb : ∀ (i : grid1.Coords) (v320 : BitVec 32) (v326 : BitVec 32) (k1_hw6 : k1_chk6 i v320 v326) (k1_t76 : Fin (k1_t76_loop i v320 v326).trips), ∀ (k1_h38 : k1_cond38 i v320 v326 = 1#1), ∀ a, (k1_off305 i v320 v326 k1_t76) a + S1x16.size a ≤ S256x128.size a := fun i v320 v326 k1_hw6 k1_t76 k1_h38 => k1_hw6.1.2.2.2.2.2.2.2.2.2.2.2.2.2.2.2.2.2.2.1 k1_t76 k1_h38
theorem k1_off306_inb : ∀ (i : grid1.Coords) (v320 : BitVec 32) (v326 : BitVec 32) (k1_hw6 : k1_chk6 i v320 v326) (k1_t76 : Fin (k1_t76_loop i v320 v326).trips), ∀ (k1_h38 : k1_cond38 i v320 v326 = 1#1), ∀ a, (k1_off306 i v320 v326 k1_t76) a + S1x16.size a ≤ S256x128.size a := fun i v320 v326 k1_hw6 k1_t76 k1_h38 => k1_hw6.1.2.2.2.2.2.2.2.2.2.2.2.2.2.2.2.2.2.2.2.1 k1_t76 k1_h38
theorem k1_t139_ok : ∀ (i : grid1.Coords) (v320 : BitVec 32) (v326 : BitVec 32) (k1_hw6 : k1_chk6 i v320 v326), ∀ (k1_h70 : k1_cond70 i v320 v326 = 1#1), (k1_t139_loop i v320 v326).OK := fun i v320 v326 k1_hw6 k1_h70 => k1_hw6.1.2.2.2.2.2.2.2.2.2.2.2.2.2.2.2.2.2.2.2.2.1 k1_h70
theorem k1_off555_inb : ∀ (i : grid1.Coords) (v320 : BitVec 32) (v326 : BitVec 32) (k1_hw6 : k1_chk6 i v320 v326) (k1_t139 : Fin (k1_t139_loop i v320 v326).trips), ∀ (k1_h70 : k1_cond70 i v320 v326 = 1#1), ∀ a, (k1_off555 i v320 v326 k1_t139) a + S1x16.size a ≤ S256x128.size a := fun i v320 v326 k1_hw6 k1_t139 k1_h70 => k1_hw6.1.2.2.2.2.2.2.2.2.2.2.2.2.2.2.2.2.2.2.2.2.2.1 k1_t139 k1_h70
theorem k1_off556_inb : ∀ (i : grid1.Coords) (v320 : BitVec 32) (v326 : BitVec 32) (k1_hw6 : k1_chk6 i v320 v326) (k1_t139 : Fin (k1_t139_loop i v320 v326).trips), ∀ (k1_h70 : k1_cond70 i v320 v326 = 1#1), ∀ a, (k1_off556 i v320 v326 k1_t139) a + S1x16.size a ≤ S256x128.size a := fun i v320 v326 k1_hw6 k1_t139 k1_h70 => k1_hw6.1.2.2.2.2.2.2.2.2.2.2.2.2.2.2.2.2.2.2.2.2.2.2.1 k1_t139 k1_h70
theorem k1_off557_inb : ∀ (i : grid1.Coords) (v320 : BitVec 32) (v326 : BitVec 32) (k1_hw6 : k1_chk6 i v320 v326) (k1_t139 : Fin (k1_t139_loop i v320 v326).trips), ∀ (k1_h70 : k1_cond70 i v320 v326 = 1#1), ∀ a, (k1_off557 i v320 v326 k1_t139) a + S1x16.size a ≤ S256x128.size a := fun i v320 v326 k1_hw6 k1_t139 k1_h70 => k1_hw6.1.2.2.2.2.2.2.2.2.2.2.2.2.2.2.2.2.2.2.2.2.2.2.2.1 k1_t139 k1_h70
theorem k1_off558_inb : ∀ (i : grid1.Coords) (v320 : BitVec 32) (v326 : BitVec 32) (k1_hw6 : k1_chk6 i v320 v326) (k1_t139 : Fin (k1_t139_loop i v320 v326).trips), ∀ (k1_h70 : k1_cond70 i v320 v326 = 1#1), ∀ a, (k1_off558 i v320 v326 k1_t139) a + S1x16.size a ≤ S256x128.size a := fun i v320 v326 k1_hw6 k1_t139 k1_h70 => k1_hw6.1.2.2.2.2.2.2.2.2.2.2.2.2.2.2.2.2.2.2.2.2.2.2.2.2.1 k1_t139 k1_h70
theorem k1_t140_ok : ∀ (i : grid1.Coords) (v320 : BitVec 32) (v326 : BitVec 32) (k1_hw6 : k1_chk6 i v320 v326), ∀ (k1_h70 : k1_cond70 i v320 v326 = 1#1), (k1_t140_loop i v320 v326).OK := fun i v320 v326 k1_hw6 k1_h70 => k1_hw6.1.2.2.2.2.2.2.2.2.2.2.2.2.2.2.2.2.2.2.2.2.2.2.2.2.2.1 k1_h70
theorem k1_off559_inb : ∀ (i : grid1.Coords) (v320 : BitVec 32) (v326 : BitVec 32) (k1_hw6 : k1_chk6 i v320 v326) (k1_t140 : Fin (k1_t140_loop i v320 v326).trips), ∀ (k1_h70 : k1_cond70 i v320 v326 = 1#1), ∀ a, (k1_off559 i v320 v326 k1_t140) a + S1x16.size a ≤ S256x128.size a := fun i v320 v326 k1_hw6 k1_t140 k1_h70 => k1_hw6.1.2.2.2.2.2.2.2.2.2.2.2.2.2.2.2.2.2.2.2.2.2.2.2.2.2.2.1 k1_t140 k1_h70
theorem k1_off560_inb : ∀ (i : grid1.Coords) (v320 : BitVec 32) (v326 : BitVec 32) (k1_hw6 : k1_chk6 i v320 v326) (k1_t140 : Fin (k1_t140_loop i v320 v326).trips), ∀ (k1_h70 : k1_cond70 i v320 v326 = 1#1), ∀ a, (k1_off560 i v320 v326 k1_t140) a + S1x16.size a ≤ S256x128.size a := fun i v320 v326 k1_hw6 k1_t140 k1_h70 => k1_hw6.1.2.2.2.2.2.2.2.2.2.2.2.2.2.2.2.2.2.2.2.2.2.2.2.2.2.2.2.1 k1_t140 k1_h70
theorem k1_off561_inb : ∀ (i : grid1.Coords) (v320 : BitVec 32) (v326 : BitVec 32) (k1_hw6 : k1_chk6 i v320 v326) (k1_t140 : Fin (k1_t140_loop i v320 v326).trips), ∀ (k1_h70 : k1_cond70 i v320 v326 = 1#1), ∀ a, (k1_off561 i v320 v326 k1_t140) a + S1x16.size a ≤ S256x128.size a := fun i v320 v326 k1_hw6 k1_t140 k1_h70 => k1_hw6.1.2.2.2.2.2.2.2.2.2.2.2.2.2.2.2.2.2.2.2.2.2.2.2.2.2.2.2.2.1 k1_t140 k1_h70
theorem k1_off562_inb : ∀ (i : grid1.Coords) (v320 : BitVec 32) (v326 : BitVec 32) (k1_hw6 : k1_chk6 i v320 v326) (k1_t140 : Fin (k1_t140_loop i v320 v326).trips), ∀ (k1_h70 : k1_cond70 i v320 v326 = 1#1), ∀ a, (k1_off562 i v320 v326 k1_t140) a + S1x16.size a ≤ S256x128.size a := fun i v320 v326 k1_hw6 k1_t140 k1_h70 => k1_hw6.1.2.2.2.2.2.2.2.2.2.2.2.2.2.2.2.2.2.2.2.2.2.2.2.2.2.2.2.2.2.1 k1_t140 k1_h70
theorem k1_t203_ok : ∀ (i : grid1.Coords) (v320 : BitVec 32) (v326 : BitVec 32) (k1_hw6 : k1_chk6 i v320 v326), ∀ (k1_h102 : k1_cond102 i v320 v326 = 1#1), (k1_t203_loop i v320 v326).OK := fun i v320 v326 k1_hw6 k1_h102 => k1_hw6.1.2.2.2.2.2.2.2.2.2.2.2.2.2.2.2.2.2.2.2.2.2.2.2.2.2.2.2.2.2.2.1 k1_h102
theorem k1_off811_inb : ∀ (i : grid1.Coords) (v320 : BitVec 32) (v326 : BitVec 32) (k1_hw6 : k1_chk6 i v320 v326) (k1_t203 : Fin (k1_t203_loop i v320 v326).trips), ∀ (k1_h102 : k1_cond102 i v320 v326 = 1#1), ∀ a, (k1_off811 i v320 v326 k1_t203) a + S1x16.size a ≤ S256x128.size a := fun i v320 v326 k1_hw6 k1_t203 k1_h102 => k1_hw6.1.2.2.2.2.2.2.2.2.2.2.2.2.2.2.2.2.2.2.2.2.2.2.2.2.2.2.2.2.2.2.2 k1_t203 k1_h102
theorem k1_off812_inb : ∀ (i : grid1.Coords) (v320 : BitVec 32) (v326 : BitVec 32) (k1_hw6 : k1_chk6 i v320 v326) (k1_t203 : Fin (k1_t203_loop i v320 v326).trips), ∀ (k1_h102 : k1_cond102 i v320 v326 = 1#1), ∀ a, (k1_off812 i v320 v326 k1_t203) a + S1x16.size a ≤ S256x128.size a := fun i v320 v326 k1_hw6 k1_t203 k1_h102 => k1_hw6.2.1 k1_t203 k1_h102
theorem k1_off813_inb : ∀ (i : grid1.Coords) (v320 : BitVec 32) (v326 : BitVec 32) (k1_hw6 : k1_chk6 i v320 v326) (k1_t203 : Fin (k1_t203_loop i v320 v326).trips), ∀ (k1_h102 : k1_cond102 i v320 v326 = 1#1), ∀ a, (k1_off813 i v320 v326 k1_t203) a + S1x16.size a ≤ S256x128.size a := fun i v320 v326 k1_hw6 k1_t203 k1_h102 => k1_hw6.2.2.1 k1_t203 k1_h102
theorem k1_off814_inb : ∀ (i : grid1.Coords) (v320 : BitVec 32) (v326 : BitVec 32) (k1_hw6 : k1_chk6 i v320 v326) (k1_t203 : Fin (k1_t203_loop i v320 v326).trips), ∀ (k1_h102 : k1_cond102 i v320 v326 = 1#1), ∀ a, (k1_off814 i v320 v326 k1_t203) a + S1x16.size a ≤ S256x128.size a := fun i v320 v326 k1_hw6 k1_t203 k1_h102 => k1_hw6.2.2.2.1 k1_t203 k1_h102
theorem k1_t204_ok : ∀ (i : grid1.Coords) (v320 : BitVec 32) (v326 : BitVec 32) (k1_hw6 : k1_chk6 i v320 v326), ∀ (k1_h102 : k1_cond102 i v320 v326 = 1#1), (k1_t204_loop i v320 v326).OK := fun i v320 v326 k1_hw6 k1_h102 => k1_hw6.2.2.2.2.1 k1_h102
theorem k1_off815_inb : ∀ (i : grid1.Coords) (v320 : BitVec 32) (v326 : BitVec 32) (k1_hw6 : k1_chk6 i v320 v326) (k1_t204 : Fin (k1_t204_loop i v320 v326).trips), ∀ (k1_h102 : k1_cond102 i v320 v326 = 1#1), ∀ a, (k1_off815 i v320 v326 k1_t204) a + S1x16.size a ≤ S256x128.size a := fun i v320 v326 k1_hw6 k1_t204 k1_h102 => k1_hw6.2.2.2.2.2.1 k1_t204 k1_h102
theorem k1_off816_inb : ∀ (i : grid1.Coords) (v320 : BitVec 32) (v326 : BitVec 32) (k1_hw6 : k1_chk6 i v320 v326) (k1_t204 : Fin (k1_t204_loop i v320 v326).trips), ∀ (k1_h102 : k1_cond102 i v320 v326 = 1#1), ∀ a, (k1_off816 i v320 v326 k1_t204) a + S1x16.size a ≤ S256x128.size a := fun i v320 v326 k1_hw6 k1_t204 k1_h102 => k1_hw6.2.2.2.2.2.2.1 k1_t204 k1_h102
theorem k1_off817_inb : ∀ (i : grid1.Coords) (v320 : BitVec 32) (v326 : BitVec 32) (k1_hw6 : k1_chk6 i v320 v326) (k1_t204 : Fin (k1_t204_loop i v320 v326).trips), ∀ (k1_h102 : k1_cond102 i v320 v326 = 1#1), ∀ a, (k1_off817 i v320 v326 k1_t204) a + S1x16.size a ≤ S256x128.size a := fun i v320 v326 k1_hw6 k1_t204 k1_h102 => k1_hw6.2.2.2.2.2.2.2.1 k1_t204 k1_h102
theorem k1_off818_inb : ∀ (i : grid1.Coords) (v320 : BitVec 32) (v326 : BitVec 32) (k1_hw6 : k1_chk6 i v320 v326) (k1_t204 : Fin (k1_t204_loop i v320 v326).trips), ∀ (k1_h102 : k1_cond102 i v320 v326 = 1#1), ∀ a, (k1_off818 i v320 v326 k1_t204) a + S1x16.size a ≤ S256x128.size a := fun i v320 v326 k1_hw6 k1_t204 k1_h102 => k1_hw6.2.2.2.2.2.2.2.2 k1_t204 k1_h102

@[reducible] def k1_t205_loop (i : grid1.Coords) (v332 : BitVec 32) (v337 : BitVec 32) : Scf.Loop 32 :=
  let c256_i32_1008 : BitVec 32 := 256#32
  let c0_i32_1007 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let c256_i32_1011 : BitVec 32 := 256#32
  let c0_i32_1010 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c768_i32_1009 : BitVec 32 := 768#32
  let v1562 : BitVec 32 := Scalar.subi v340 c768_i32_1009
  let v1563 : BitVec 32 := Scalar.maxsi c0_i32_1010 v1562
  let v1564 : BitVec 32 := Scalar.minsi c256_i32_1011 v1563
  let v1805 : BitVec 32 := Scalar.subi v1564 v1561
  let c1_i32_1196 : BitVec 32 := 1#32
  let v1807 : BitVec 32 := Scalar.divsi v1805 c1_i32_1196
  let v1808 : BitVec 32 := Scalar.muli v1807 c1_i32_1196
  let v1809 : BitVec 32 := Scalar.addi v1561 v1808
  let c1_i32_1197 : BitVec 32 := 1#32
  ⟨v1561, v1809, c1_i32_1197⟩
def k1_cond103 (i : grid1.Coords) (v332 : BitVec 32) (v337 : BitVec 32) : BitVec 1 :=
  let c256_i32_1011 : BitVec 32 := 256#32
  let c0_i32_1010 : BitVec 32 := 0#32
  let c1024_i32_144 : BitVec 32 := 1024#32
  let c0_i32_143 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v338 : BitVec 32 := Scalar.subi v337 v3
  let v339 : BitVec 32 := Scalar.maxsi c0_i32_143 v338
  let v340 : BitVec 32 := Scalar.minsi c1024_i32_144 v339
  let c768_i32_1009 : BitVec 32 := 768#32
  let v1562 : BitVec 32 := Scalar.subi v340 c768_i32_1009
  let v1563 : BitVec 32 := Scalar.maxsi c0_i32_1010 v1562
  let v1564 : BitVec 32 := Scalar.minsi c256_i32_1011 v1563
  let c256_i32_1008 : BitVec 32 := 256#32
  let c0_i32_1007 : BitVec 32 := 0#32
  let c1024_i32_142 : BitVec 32 := 1024#32
  let c0_i32_141 : BitVec 32 := 0#32
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let v1565 : BitVec 1 := Scalar.cmpi .sgt v1564 v1561
  let v1566 : BitVec 32 := Scalar.extui v1565
  let c0_i32_1012 : BitVec 32 := 0#32
  let v1567 : BitVec 1 := Scalar.cmpi .ne v1566 c0_i32_1012
  v1567

def k1_off819 (i : grid1.Coords) (v332 : BitVec 32) (v337 : BitVec 32) (k1_t205 : Fin (k1_t205_loop i v332 v337).trips) : Fin 2 → Nat :=
  let c256_i32_1008 : BitVec 32 := 256#32
  let c0_i32_1007 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let c1_i32_1197 : BitVec 32 := 1#32
  let arg13 : BitVec 32 := Scf.iv v1561 c1_i32_1197 k1_t205
  let v1828 : Index := Scalar.indexCast arg13
  let c0_1207 : Index := 0#32
  ![v1828.toNat, 0]
def k1_off820 (i : grid1.Coords) (v332 : BitVec 32) (v337 : BitVec 32) (k1_t205 : Fin (k1_t205_loop i v332 v337).trips) : Fin 2 → Nat :=
  let c256_i32_1008 : BitVec 32 := 256#32
  let c0_i32_1007 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let c1_i32_1197 : BitVec 32 := 1#32
  let arg13 : BitVec 32 := Scf.iv v1561 c1_i32_1197 k1_t205
  let v1832 : Index := Scalar.indexCast arg13
  let c16_1208 : Index := 16#32
  ![v1832.toNat, 16]
def k1_off821 (i : grid1.Coords) (v332 : BitVec 32) (v337 : BitVec 32) (k1_t205 : Fin (k1_t205_loop i v332 v337).trips) : Fin 2 → Nat :=
  let c256_i32_1008 : BitVec 32 := 256#32
  let c0_i32_1007 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let c1_i32_1197 : BitVec 32 := 1#32
  let arg13 : BitVec 32 := Scf.iv v1561 c1_i32_1197 k1_t205
  let v1836 : Index := Scalar.indexCast arg13
  let c32_1209 : Index := 32#32
  ![v1836.toNat, 32]
def k1_off822 (i : grid1.Coords) (v332 : BitVec 32) (v337 : BitVec 32) (k1_t205 : Fin (k1_t205_loop i v332 v337).trips) : Fin 2 → Nat :=
  let c256_i32_1008 : BitVec 32 := 256#32
  let c0_i32_1007 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let c1_i32_1197 : BitVec 32 := 1#32
  let arg13 : BitVec 32 := Scf.iv v1561 c1_i32_1197 k1_t205
  let v1840 : Index := Scalar.indexCast arg13
  let c48_1210 : Index := 48#32
  ![v1840.toNat, 48]
@[reducible] def k1_t206_loop (i : grid1.Coords) (v332 : BitVec 32) (v337 : BitVec 32) : Scf.Loop 32 :=
  let c256_i32_1008 : BitVec 32 := 256#32
  let c0_i32_1007 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let c256_i32_1011 : BitVec 32 := 256#32
  let c0_i32_1010 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c768_i32_1009 : BitVec 32 := 768#32
  let v1562 : BitVec 32 := Scalar.subi v340 c768_i32_1009
  let v1563 : BitVec 32 := Scalar.maxsi c0_i32_1010 v1562
  let v1564 : BitVec 32 := Scalar.minsi c256_i32_1011 v1563
  let v1805 : BitVec 32 := Scalar.subi v1564 v1561
  let c1_i32_1196 : BitVec 32 := 1#32
  let v1807 : BitVec 32 := Scalar.divsi v1805 c1_i32_1196
  let v1808 : BitVec 32 := Scalar.muli v1807 c1_i32_1196
  let v1809 : BitVec 32 := Scalar.addi v1561 v1808
  let v1806 : BitVec 32 := Scalar.addi v1561 v1805
  let c1_i32_1198 : BitVec 32 := 1#32
  ⟨v1809, v1806, c1_i32_1198⟩
def k1_off823 (i : grid1.Coords) (v332 : BitVec 32) (v337 : BitVec 32) (k1_t206 : Fin (k1_t206_loop i v332 v337).trips) : Fin 2 → Nat :=
  let c256_i32_1008 : BitVec 32 := 256#32
  let c0_i32_1007 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let c256_i32_1011 : BitVec 32 := 256#32
  let c0_i32_1010 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c768_i32_1009 : BitVec 32 := 768#32
  let v1562 : BitVec 32 := Scalar.subi v340 c768_i32_1009
  let v1563 : BitVec 32 := Scalar.maxsi c0_i32_1010 v1562
  let v1564 : BitVec 32 := Scalar.minsi c256_i32_1011 v1563
  let v1805 : BitVec 32 := Scalar.subi v1564 v1561
  let c1_i32_1196 : BitVec 32 := 1#32
  let v1807 : BitVec 32 := Scalar.divsi v1805 c1_i32_1196
  let v1808 : BitVec 32 := Scalar.muli v1807 c1_i32_1196
  let v1809 : BitVec 32 := Scalar.addi v1561 v1808
  let c1_i32_1198 : BitVec 32 := 1#32
  let arg13 : BitVec 32 := Scf.iv v1809 c1_i32_1198 k1_t206
  let v1828 : Index := Scalar.indexCast arg13
  let c0_1207 : Index := 0#32
  ![v1828.toNat, 0]
def k1_off824 (i : grid1.Coords) (v332 : BitVec 32) (v337 : BitVec 32) (k1_t206 : Fin (k1_t206_loop i v332 v337).trips) : Fin 2 → Nat :=
  let c256_i32_1008 : BitVec 32 := 256#32
  let c0_i32_1007 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let c256_i32_1011 : BitVec 32 := 256#32
  let c0_i32_1010 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c768_i32_1009 : BitVec 32 := 768#32
  let v1562 : BitVec 32 := Scalar.subi v340 c768_i32_1009
  let v1563 : BitVec 32 := Scalar.maxsi c0_i32_1010 v1562
  let v1564 : BitVec 32 := Scalar.minsi c256_i32_1011 v1563
  let v1805 : BitVec 32 := Scalar.subi v1564 v1561
  let c1_i32_1196 : BitVec 32 := 1#32
  let v1807 : BitVec 32 := Scalar.divsi v1805 c1_i32_1196
  let v1808 : BitVec 32 := Scalar.muli v1807 c1_i32_1196
  let v1809 : BitVec 32 := Scalar.addi v1561 v1808
  let c1_i32_1198 : BitVec 32 := 1#32
  let arg13 : BitVec 32 := Scf.iv v1809 c1_i32_1198 k1_t206
  let v1832 : Index := Scalar.indexCast arg13
  let c16_1208 : Index := 16#32
  ![v1832.toNat, 16]
def k1_off825 (i : grid1.Coords) (v332 : BitVec 32) (v337 : BitVec 32) (k1_t206 : Fin (k1_t206_loop i v332 v337).trips) : Fin 2 → Nat :=
  let c256_i32_1008 : BitVec 32 := 256#32
  let c0_i32_1007 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let c256_i32_1011 : BitVec 32 := 256#32
  let c0_i32_1010 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c768_i32_1009 : BitVec 32 := 768#32
  let v1562 : BitVec 32 := Scalar.subi v340 c768_i32_1009
  let v1563 : BitVec 32 := Scalar.maxsi c0_i32_1010 v1562
  let v1564 : BitVec 32 := Scalar.minsi c256_i32_1011 v1563
  let v1805 : BitVec 32 := Scalar.subi v1564 v1561
  let c1_i32_1196 : BitVec 32 := 1#32
  let v1807 : BitVec 32 := Scalar.divsi v1805 c1_i32_1196
  let v1808 : BitVec 32 := Scalar.muli v1807 c1_i32_1196
  let v1809 : BitVec 32 := Scalar.addi v1561 v1808
  let c1_i32_1198 : BitVec 32 := 1#32
  let arg13 : BitVec 32 := Scf.iv v1809 c1_i32_1198 k1_t206
  let v1836 : Index := Scalar.indexCast arg13
  let c32_1209 : Index := 32#32
  ![v1836.toNat, 32]
def k1_off826 (i : grid1.Coords) (v332 : BitVec 32) (v337 : BitVec 32) (k1_t206 : Fin (k1_t206_loop i v332 v337).trips) : Fin 2 → Nat :=
  let c256_i32_1008 : BitVec 32 := 256#32
  let c0_i32_1007 : BitVec 32 := 0#32
  let c1024_i32_142 : BitVec 32 := 1024#32
  let c0_i32_141 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v333 : BitVec 32 := Scalar.subi v332 v3
  let v334 : BitVec 32 := Scalar.maxsi c0_i32_141 v333
  let v335 : BitVec 32 := Scalar.minsi c1024_i32_142 v334
  let c768_i32_1006 : BitVec 32 := 768#32
  let v1559 : BitVec 32 := Scalar.subi v335 c768_i32_1006
  let v1560 : BitVec 32 := Scalar.maxsi c0_i32_1007 v1559
  let v1561 : BitVec 32 := Scalar.minsi c256_i32_1008 v1560
  let c256_i32_1011 : BitVec 32 := 256#32
  let c0_i32_1010 : BitVec 32 := 0#32
  let c1024_i32_144 : BitVec 32 := 1024#32
  let c0_i32_143 : BitVec 32 := 0#32
  let v338 : BitVec 32 := Scalar.subi v337 v3
  let v339 : BitVec 32 := Scalar.maxsi c0_i32_143 v338
  let v340 : BitVec 32 := Scalar.minsi c1024_i32_144 v339
  let c768_i32_1009 : BitVec 32 := 768#32
  let v1562 : BitVec 32 := Scalar.subi v340 c768_i32_1009
  let v1563 : BitVec 32 := Scalar.maxsi c0_i32_1010 v1562
  let v1564 : BitVec 32 := Scalar.minsi c256_i32_1011 v1563
  let v1805 : BitVec 32 := Scalar.subi v1564 v1561
  let c1_i32_1196 : BitVec 32 := 1#32
  let v1807 : BitVec 32 := Scalar.divsi v1805 c1_i32_1196
  let v1808 : BitVec 32 := Scalar.muli v1807 c1_i32_1196
  let v1809 : BitVec 32 := Scalar.addi v1561 v1808
  let c1_i32_1198 : BitVec 32 := 1#32
  let arg13 : BitVec 32 := Scf.iv v1809 c1_i32_1198 k1_t206
  let v1840 : Index := Scalar.indexCast arg13
  let c48_1210 : Index := 48#32
  ![v1840.toNat, 48]

def k1_chk7_0 (i : grid1.Coords) (v332 : BitVec 32) (v337 : BitVec 32) : Prop :=
  (∀ (k1_h7 : k1_cond7 i v332 v337 = 1#1), (k1_t13_loop i v332 v337).OK) ∧
  (∀ k1_t13 : Fin (k1_t13_loop i v332 v337).trips, ∀ (k1_h7 : k1_cond7 i v332 v337 = 1#1), ∀ a, (k1_off50 i v332 v337 k1_t13) a + S1x16.size a ≤ S256x128.size a) ∧
  (∀ k1_t13 : Fin (k1_t13_loop i v332 v337).trips, ∀ (k1_h7 : k1_cond7 i v332 v337 = 1#1), ∀ a, (k1_off51 i v332 v337 k1_t13) a + S1x16.size a ≤ S256x128.size a) ∧
  (∀ k1_t13 : Fin (k1_t13_loop i v332 v337).trips, ∀ (k1_h7 : k1_cond7 i v332 v337 = 1#1), ∀ a, (k1_off52 i v332 v337 k1_t13) a + S1x16.size a ≤ S256x128.size a) ∧
  (∀ k1_t13 : Fin (k1_t13_loop i v332 v337).trips, ∀ (k1_h7 : k1_cond7 i v332 v337 = 1#1), ∀ a, (k1_off53 i v332 v337 k1_t13) a + S1x16.size a ≤ S256x128.size a) ∧
  (∀ (k1_h7 : k1_cond7 i v332 v337 = 1#1), (k1_t14_loop i v332 v337).OK) ∧
  (∀ k1_t14 : Fin (k1_t14_loop i v332 v337).trips, ∀ (k1_h7 : k1_cond7 i v332 v337 = 1#1), ∀ a, (k1_off54 i v332 v337 k1_t14) a + S1x16.size a ≤ S256x128.size a) ∧
  (∀ k1_t14 : Fin (k1_t14_loop i v332 v337).trips, ∀ (k1_h7 : k1_cond7 i v332 v337 = 1#1), ∀ a, (k1_off55 i v332 v337 k1_t14) a + S1x16.size a ≤ S256x128.size a) ∧
  (∀ k1_t14 : Fin (k1_t14_loop i v332 v337).trips, ∀ (k1_h7 : k1_cond7 i v332 v337 = 1#1), ∀ a, (k1_off56 i v332 v337 k1_t14) a + S1x16.size a ≤ S256x128.size a) ∧
  (∀ k1_t14 : Fin (k1_t14_loop i v332 v337).trips, ∀ (k1_h7 : k1_cond7 i v332 v337 = 1#1), ∀ a, (k1_off57 i v332 v337 k1_t14) a + S1x16.size a ≤ S256x128.size a) ∧
  (∀ (k1_h39 : k1_cond39 i v332 v337 = 1#1), (k1_t77_loop i v332 v337).OK) ∧
  (∀ k1_t77 : Fin (k1_t77_loop i v332 v337).trips, ∀ (k1_h39 : k1_cond39 i v332 v337 = 1#1), ∀ a, (k1_off307 i v332 v337 k1_t77) a + S1x16.size a ≤ S256x128.size a) ∧
  (∀ k1_t77 : Fin (k1_t77_loop i v332 v337).trips, ∀ (k1_h39 : k1_cond39 i v332 v337 = 1#1), ∀ a, (k1_off308 i v332 v337 k1_t77) a + S1x16.size a ≤ S256x128.size a) ∧
  (∀ k1_t77 : Fin (k1_t77_loop i v332 v337).trips, ∀ (k1_h39 : k1_cond39 i v332 v337 = 1#1), ∀ a, (k1_off309 i v332 v337 k1_t77) a + S1x16.size a ≤ S256x128.size a) ∧
  (∀ k1_t77 : Fin (k1_t77_loop i v332 v337).trips, ∀ (k1_h39 : k1_cond39 i v332 v337 = 1#1), ∀ a, (k1_off310 i v332 v337 k1_t77) a + S1x16.size a ≤ S256x128.size a) ∧
  (∀ (k1_h39 : k1_cond39 i v332 v337 = 1#1), (k1_t78_loop i v332 v337).OK) ∧
  (∀ k1_t78 : Fin (k1_t78_loop i v332 v337).trips, ∀ (k1_h39 : k1_cond39 i v332 v337 = 1#1), ∀ a, (k1_off311 i v332 v337 k1_t78) a + S1x16.size a ≤ S256x128.size a) ∧
  (∀ k1_t78 : Fin (k1_t78_loop i v332 v337).trips, ∀ (k1_h39 : k1_cond39 i v332 v337 = 1#1), ∀ a, (k1_off312 i v332 v337 k1_t78) a + S1x16.size a ≤ S256x128.size a) ∧
  (∀ k1_t78 : Fin (k1_t78_loop i v332 v337).trips, ∀ (k1_h39 : k1_cond39 i v332 v337 = 1#1), ∀ a, (k1_off313 i v332 v337 k1_t78) a + S1x16.size a ≤ S256x128.size a) ∧
  (∀ k1_t78 : Fin (k1_t78_loop i v332 v337).trips, ∀ (k1_h39 : k1_cond39 i v332 v337 = 1#1), ∀ a, (k1_off314 i v332 v337 k1_t78) a + S1x16.size a ≤ S256x128.size a) ∧
  (∀ (k1_h71 : k1_cond71 i v332 v337 = 1#1), (k1_t141_loop i v332 v337).OK) ∧
  (∀ k1_t141 : Fin (k1_t141_loop i v332 v337).trips, ∀ (k1_h71 : k1_cond71 i v332 v337 = 1#1), ∀ a, (k1_off563 i v332 v337 k1_t141) a + S1x16.size a ≤ S256x128.size a) ∧
  (∀ k1_t141 : Fin (k1_t141_loop i v332 v337).trips, ∀ (k1_h71 : k1_cond71 i v332 v337 = 1#1), ∀ a, (k1_off564 i v332 v337 k1_t141) a + S1x16.size a ≤ S256x128.size a) ∧
  (∀ k1_t141 : Fin (k1_t141_loop i v332 v337).trips, ∀ (k1_h71 : k1_cond71 i v332 v337 = 1#1), ∀ a, (k1_off565 i v332 v337 k1_t141) a + S1x16.size a ≤ S256x128.size a) ∧
  (∀ k1_t141 : Fin (k1_t141_loop i v332 v337).trips, ∀ (k1_h71 : k1_cond71 i v332 v337 = 1#1), ∀ a, (k1_off566 i v332 v337 k1_t141) a + S1x16.size a ≤ S256x128.size a) ∧
  (∀ (k1_h71 : k1_cond71 i v332 v337 = 1#1), (k1_t142_loop i v332 v337).OK) ∧
  (∀ k1_t142 : Fin (k1_t142_loop i v332 v337).trips, ∀ (k1_h71 : k1_cond71 i v332 v337 = 1#1), ∀ a, (k1_off567 i v332 v337 k1_t142) a + S1x16.size a ≤ S256x128.size a) ∧
  (∀ k1_t142 : Fin (k1_t142_loop i v332 v337).trips, ∀ (k1_h71 : k1_cond71 i v332 v337 = 1#1), ∀ a, (k1_off568 i v332 v337 k1_t142) a + S1x16.size a ≤ S256x128.size a) ∧
  (∀ k1_t142 : Fin (k1_t142_loop i v332 v337).trips, ∀ (k1_h71 : k1_cond71 i v332 v337 = 1#1), ∀ a, (k1_off569 i v332 v337 k1_t142) a + S1x16.size a ≤ S256x128.size a) ∧
  (∀ k1_t142 : Fin (k1_t142_loop i v332 v337).trips, ∀ (k1_h71 : k1_cond71 i v332 v337 = 1#1), ∀ a, (k1_off570 i v332 v337 k1_t142) a + S1x16.size a ≤ S256x128.size a) ∧
  (∀ (k1_h103 : k1_cond103 i v332 v337 = 1#1), (k1_t205_loop i v332 v337).OK) ∧
  (∀ k1_t205 : Fin (k1_t205_loop i v332 v337).trips, ∀ (k1_h103 : k1_cond103 i v332 v337 = 1#1), ∀ a, (k1_off819 i v332 v337 k1_t205) a + S1x16.size a ≤ S256x128.size a)
def k1_chk7_1 (i : grid1.Coords) (v332 : BitVec 32) (v337 : BitVec 32) : Prop :=
  (∀ k1_t205 : Fin (k1_t205_loop i v332 v337).trips, ∀ (k1_h103 : k1_cond103 i v332 v337 = 1#1), ∀ a, (k1_off820 i v332 v337 k1_t205) a + S1x16.size a ≤ S256x128.size a) ∧
  (∀ k1_t205 : Fin (k1_t205_loop i v332 v337).trips, ∀ (k1_h103 : k1_cond103 i v332 v337 = 1#1), ∀ a, (k1_off821 i v332 v337 k1_t205) a + S1x16.size a ≤ S256x128.size a) ∧
  (∀ k1_t205 : Fin (k1_t205_loop i v332 v337).trips, ∀ (k1_h103 : k1_cond103 i v332 v337 = 1#1), ∀ a, (k1_off822 i v332 v337 k1_t205) a + S1x16.size a ≤ S256x128.size a) ∧
  (∀ (k1_h103 : k1_cond103 i v332 v337 = 1#1), (k1_t206_loop i v332 v337).OK) ∧
  (∀ k1_t206 : Fin (k1_t206_loop i v332 v337).trips, ∀ (k1_h103 : k1_cond103 i v332 v337 = 1#1), ∀ a, (k1_off823 i v332 v337 k1_t206) a + S1x16.size a ≤ S256x128.size a) ∧
  (∀ k1_t206 : Fin (k1_t206_loop i v332 v337).trips, ∀ (k1_h103 : k1_cond103 i v332 v337 = 1#1), ∀ a, (k1_off824 i v332 v337 k1_t206) a + S1x16.size a ≤ S256x128.size a) ∧
  (∀ k1_t206 : Fin (k1_t206_loop i v332 v337).trips, ∀ (k1_h103 : k1_cond103 i v332 v337 = 1#1), ∀ a, (k1_off825 i v332 v337 k1_t206) a + S1x16.size a ≤ S256x128.size a) ∧
  (∀ k1_t206 : Fin (k1_t206_loop i v332 v337).trips, ∀ (k1_h103 : k1_cond103 i v332 v337 = 1#1), ∀ a, (k1_off826 i v332 v337 k1_t206) a + S1x16.size a ≤ S256x128.size a)
def k1_chk7 (i : grid1.Coords) (v332 : BitVec 32) (v337 : BitVec 32) : Prop :=
  k1_chk7_0 i v332 v337 ∧
  k1_chk7_1 i v332 v337
theorem k1_t13_ok : ∀ (i : grid1.Coords) (v332 : BitVec 32) (v337 : BitVec 32) (k1_hw7 : k1_chk7 i v332 v337), ∀ (k1_h7 : k1_cond7 i v332 v337 = 1#1), (k1_t13_loop i v332 v337).OK := fun i v332 v337 k1_hw7 k1_h7 => k1_hw7.1.1 k1_h7
theorem k1_off50_inb : ∀ (i : grid1.Coords) (v332 : BitVec 32) (v337 : BitVec 32) (k1_hw7 : k1_chk7 i v332 v337) (k1_t13 : Fin (k1_t13_loop i v332 v337).trips), ∀ (k1_h7 : k1_cond7 i v332 v337 = 1#1), ∀ a, (k1_off50 i v332 v337 k1_t13) a + S1x16.size a ≤ S256x128.size a := fun i v332 v337 k1_hw7 k1_t13 k1_h7 => k1_hw7.1.2.1 k1_t13 k1_h7
theorem k1_off51_inb : ∀ (i : grid1.Coords) (v332 : BitVec 32) (v337 : BitVec 32) (k1_hw7 : k1_chk7 i v332 v337) (k1_t13 : Fin (k1_t13_loop i v332 v337).trips), ∀ (k1_h7 : k1_cond7 i v332 v337 = 1#1), ∀ a, (k1_off51 i v332 v337 k1_t13) a + S1x16.size a ≤ S256x128.size a := fun i v332 v337 k1_hw7 k1_t13 k1_h7 => k1_hw7.1.2.2.1 k1_t13 k1_h7
theorem k1_off52_inb : ∀ (i : grid1.Coords) (v332 : BitVec 32) (v337 : BitVec 32) (k1_hw7 : k1_chk7 i v332 v337) (k1_t13 : Fin (k1_t13_loop i v332 v337).trips), ∀ (k1_h7 : k1_cond7 i v332 v337 = 1#1), ∀ a, (k1_off52 i v332 v337 k1_t13) a + S1x16.size a ≤ S256x128.size a := fun i v332 v337 k1_hw7 k1_t13 k1_h7 => k1_hw7.1.2.2.2.1 k1_t13 k1_h7
theorem k1_off53_inb : ∀ (i : grid1.Coords) (v332 : BitVec 32) (v337 : BitVec 32) (k1_hw7 : k1_chk7 i v332 v337) (k1_t13 : Fin (k1_t13_loop i v332 v337).trips), ∀ (k1_h7 : k1_cond7 i v332 v337 = 1#1), ∀ a, (k1_off53 i v332 v337 k1_t13) a + S1x16.size a ≤ S256x128.size a := fun i v332 v337 k1_hw7 k1_t13 k1_h7 => k1_hw7.1.2.2.2.2.1 k1_t13 k1_h7
theorem k1_t14_ok : ∀ (i : grid1.Coords) (v332 : BitVec 32) (v337 : BitVec 32) (k1_hw7 : k1_chk7 i v332 v337), ∀ (k1_h7 : k1_cond7 i v332 v337 = 1#1), (k1_t14_loop i v332 v337).OK := fun i v332 v337 k1_hw7 k1_h7 => k1_hw7.1.2.2.2.2.2.1 k1_h7
theorem k1_off54_inb : ∀ (i : grid1.Coords) (v332 : BitVec 32) (v337 : BitVec 32) (k1_hw7 : k1_chk7 i v332 v337) (k1_t14 : Fin (k1_t14_loop i v332 v337).trips), ∀ (k1_h7 : k1_cond7 i v332 v337 = 1#1), ∀ a, (k1_off54 i v332 v337 k1_t14) a + S1x16.size a ≤ S256x128.size a := fun i v332 v337 k1_hw7 k1_t14 k1_h7 => k1_hw7.1.2.2.2.2.2.2.1 k1_t14 k1_h7
theorem k1_off55_inb : ∀ (i : grid1.Coords) (v332 : BitVec 32) (v337 : BitVec 32) (k1_hw7 : k1_chk7 i v332 v337) (k1_t14 : Fin (k1_t14_loop i v332 v337).trips), ∀ (k1_h7 : k1_cond7 i v332 v337 = 1#1), ∀ a, (k1_off55 i v332 v337 k1_t14) a + S1x16.size a ≤ S256x128.size a := fun i v332 v337 k1_hw7 k1_t14 k1_h7 => k1_hw7.1.2.2.2.2.2.2.2.1 k1_t14 k1_h7
theorem k1_off56_inb : ∀ (i : grid1.Coords) (v332 : BitVec 32) (v337 : BitVec 32) (k1_hw7 : k1_chk7 i v332 v337) (k1_t14 : Fin (k1_t14_loop i v332 v337).trips), ∀ (k1_h7 : k1_cond7 i v332 v337 = 1#1), ∀ a, (k1_off56 i v332 v337 k1_t14) a + S1x16.size a ≤ S256x128.size a := fun i v332 v337 k1_hw7 k1_t14 k1_h7 => k1_hw7.1.2.2.2.2.2.2.2.2.1 k1_t14 k1_h7
theorem k1_off57_inb : ∀ (i : grid1.Coords) (v332 : BitVec 32) (v337 : BitVec 32) (k1_hw7 : k1_chk7 i v332 v337) (k1_t14 : Fin (k1_t14_loop i v332 v337).trips), ∀ (k1_h7 : k1_cond7 i v332 v337 = 1#1), ∀ a, (k1_off57 i v332 v337 k1_t14) a + S1x16.size a ≤ S256x128.size a := fun i v332 v337 k1_hw7 k1_t14 k1_h7 => k1_hw7.1.2.2.2.2.2.2.2.2.2.1 k1_t14 k1_h7
theorem k1_t77_ok : ∀ (i : grid1.Coords) (v332 : BitVec 32) (v337 : BitVec 32) (k1_hw7 : k1_chk7 i v332 v337), ∀ (k1_h39 : k1_cond39 i v332 v337 = 1#1), (k1_t77_loop i v332 v337).OK := fun i v332 v337 k1_hw7 k1_h39 => k1_hw7.1.2.2.2.2.2.2.2.2.2.2.1 k1_h39
theorem k1_off307_inb : ∀ (i : grid1.Coords) (v332 : BitVec 32) (v337 : BitVec 32) (k1_hw7 : k1_chk7 i v332 v337) (k1_t77 : Fin (k1_t77_loop i v332 v337).trips), ∀ (k1_h39 : k1_cond39 i v332 v337 = 1#1), ∀ a, (k1_off307 i v332 v337 k1_t77) a + S1x16.size a ≤ S256x128.size a := fun i v332 v337 k1_hw7 k1_t77 k1_h39 => k1_hw7.1.2.2.2.2.2.2.2.2.2.2.2.1 k1_t77 k1_h39
theorem k1_off308_inb : ∀ (i : grid1.Coords) (v332 : BitVec 32) (v337 : BitVec 32) (k1_hw7 : k1_chk7 i v332 v337) (k1_t77 : Fin (k1_t77_loop i v332 v337).trips), ∀ (k1_h39 : k1_cond39 i v332 v337 = 1#1), ∀ a, (k1_off308 i v332 v337 k1_t77) a + S1x16.size a ≤ S256x128.size a := fun i v332 v337 k1_hw7 k1_t77 k1_h39 => k1_hw7.1.2.2.2.2.2.2.2.2.2.2.2.2.1 k1_t77 k1_h39
theorem k1_off309_inb : ∀ (i : grid1.Coords) (v332 : BitVec 32) (v337 : BitVec 32) (k1_hw7 : k1_chk7 i v332 v337) (k1_t77 : Fin (k1_t77_loop i v332 v337).trips), ∀ (k1_h39 : k1_cond39 i v332 v337 = 1#1), ∀ a, (k1_off309 i v332 v337 k1_t77) a + S1x16.size a ≤ S256x128.size a := fun i v332 v337 k1_hw7 k1_t77 k1_h39 => k1_hw7.1.2.2.2.2.2.2.2.2.2.2.2.2.2.1 k1_t77 k1_h39
theorem k1_off310_inb : ∀ (i : grid1.Coords) (v332 : BitVec 32) (v337 : BitVec 32) (k1_hw7 : k1_chk7 i v332 v337) (k1_t77 : Fin (k1_t77_loop i v332 v337).trips), ∀ (k1_h39 : k1_cond39 i v332 v337 = 1#1), ∀ a, (k1_off310 i v332 v337 k1_t77) a + S1x16.size a ≤ S256x128.size a := fun i v332 v337 k1_hw7 k1_t77 k1_h39 => k1_hw7.1.2.2.2.2.2.2.2.2.2.2.2.2.2.2.1 k1_t77 k1_h39
theorem k1_t78_ok : ∀ (i : grid1.Coords) (v332 : BitVec 32) (v337 : BitVec 32) (k1_hw7 : k1_chk7 i v332 v337), ∀ (k1_h39 : k1_cond39 i v332 v337 = 1#1), (k1_t78_loop i v332 v337).OK := fun i v332 v337 k1_hw7 k1_h39 => k1_hw7.1.2.2.2.2.2.2.2.2.2.2.2.2.2.2.2.1 k1_h39
theorem k1_off311_inb : ∀ (i : grid1.Coords) (v332 : BitVec 32) (v337 : BitVec 32) (k1_hw7 : k1_chk7 i v332 v337) (k1_t78 : Fin (k1_t78_loop i v332 v337).trips), ∀ (k1_h39 : k1_cond39 i v332 v337 = 1#1), ∀ a, (k1_off311 i v332 v337 k1_t78) a + S1x16.size a ≤ S256x128.size a := fun i v332 v337 k1_hw7 k1_t78 k1_h39 => k1_hw7.1.2.2.2.2.2.2.2.2.2.2.2.2.2.2.2.2.1 k1_t78 k1_h39
theorem k1_off312_inb : ∀ (i : grid1.Coords) (v332 : BitVec 32) (v337 : BitVec 32) (k1_hw7 : k1_chk7 i v332 v337) (k1_t78 : Fin (k1_t78_loop i v332 v337).trips), ∀ (k1_h39 : k1_cond39 i v332 v337 = 1#1), ∀ a, (k1_off312 i v332 v337 k1_t78) a + S1x16.size a ≤ S256x128.size a := fun i v332 v337 k1_hw7 k1_t78 k1_h39 => k1_hw7.1.2.2.2.2.2.2.2.2.2.2.2.2.2.2.2.2.2.1 k1_t78 k1_h39
theorem k1_off313_inb : ∀ (i : grid1.Coords) (v332 : BitVec 32) (v337 : BitVec 32) (k1_hw7 : k1_chk7 i v332 v337) (k1_t78 : Fin (k1_t78_loop i v332 v337).trips), ∀ (k1_h39 : k1_cond39 i v332 v337 = 1#1), ∀ a, (k1_off313 i v332 v337 k1_t78) a + S1x16.size a ≤ S256x128.size a := fun i v332 v337 k1_hw7 k1_t78 k1_h39 => k1_hw7.1.2.2.2.2.2.2.2.2.2.2.2.2.2.2.2.2.2.2.1 k1_t78 k1_h39
theorem k1_off314_inb : ∀ (i : grid1.Coords) (v332 : BitVec 32) (v337 : BitVec 32) (k1_hw7 : k1_chk7 i v332 v337) (k1_t78 : Fin (k1_t78_loop i v332 v337).trips), ∀ (k1_h39 : k1_cond39 i v332 v337 = 1#1), ∀ a, (k1_off314 i v332 v337 k1_t78) a + S1x16.size a ≤ S256x128.size a := fun i v332 v337 k1_hw7 k1_t78 k1_h39 => k1_hw7.1.2.2.2.2.2.2.2.2.2.2.2.2.2.2.2.2.2.2.2.1 k1_t78 k1_h39
theorem k1_t141_ok : ∀ (i : grid1.Coords) (v332 : BitVec 32) (v337 : BitVec 32) (k1_hw7 : k1_chk7 i v332 v337), ∀ (k1_h71 : k1_cond71 i v332 v337 = 1#1), (k1_t141_loop i v332 v337).OK := fun i v332 v337 k1_hw7 k1_h71 => k1_hw7.1.2.2.2.2.2.2.2.2.2.2.2.2.2.2.2.2.2.2.2.2.1 k1_h71
theorem k1_off563_inb : ∀ (i : grid1.Coords) (v332 : BitVec 32) (v337 : BitVec 32) (k1_hw7 : k1_chk7 i v332 v337) (k1_t141 : Fin (k1_t141_loop i v332 v337).trips), ∀ (k1_h71 : k1_cond71 i v332 v337 = 1#1), ∀ a, (k1_off563 i v332 v337 k1_t141) a + S1x16.size a ≤ S256x128.size a := fun i v332 v337 k1_hw7 k1_t141 k1_h71 => k1_hw7.1.2.2.2.2.2.2.2.2.2.2.2.2.2.2.2.2.2.2.2.2.2.1 k1_t141 k1_h71
theorem k1_off564_inb : ∀ (i : grid1.Coords) (v332 : BitVec 32) (v337 : BitVec 32) (k1_hw7 : k1_chk7 i v332 v337) (k1_t141 : Fin (k1_t141_loop i v332 v337).trips), ∀ (k1_h71 : k1_cond71 i v332 v337 = 1#1), ∀ a, (k1_off564 i v332 v337 k1_t141) a + S1x16.size a ≤ S256x128.size a := fun i v332 v337 k1_hw7 k1_t141 k1_h71 => k1_hw7.1.2.2.2.2.2.2.2.2.2.2.2.2.2.2.2.2.2.2.2.2.2.2.1 k1_t141 k1_h71
theorem k1_off565_inb : ∀ (i : grid1.Coords) (v332 : BitVec 32) (v337 : BitVec 32) (k1_hw7 : k1_chk7 i v332 v337) (k1_t141 : Fin (k1_t141_loop i v332 v337).trips), ∀ (k1_h71 : k1_cond71 i v332 v337 = 1#1), ∀ a, (k1_off565 i v332 v337 k1_t141) a + S1x16.size a ≤ S256x128.size a := fun i v332 v337 k1_hw7 k1_t141 k1_h71 => k1_hw7.1.2.2.2.2.2.2.2.2.2.2.2.2.2.2.2.2.2.2.2.2.2.2.2.1 k1_t141 k1_h71
theorem k1_off566_inb : ∀ (i : grid1.Coords) (v332 : BitVec 32) (v337 : BitVec 32) (k1_hw7 : k1_chk7 i v332 v337) (k1_t141 : Fin (k1_t141_loop i v332 v337).trips), ∀ (k1_h71 : k1_cond71 i v332 v337 = 1#1), ∀ a, (k1_off566 i v332 v337 k1_t141) a + S1x16.size a ≤ S256x128.size a := fun i v332 v337 k1_hw7 k1_t141 k1_h71 => k1_hw7.1.2.2.2.2.2.2.2.2.2.2.2.2.2.2.2.2.2.2.2.2.2.2.2.2.1 k1_t141 k1_h71
theorem k1_t142_ok : ∀ (i : grid1.Coords) (v332 : BitVec 32) (v337 : BitVec 32) (k1_hw7 : k1_chk7 i v332 v337), ∀ (k1_h71 : k1_cond71 i v332 v337 = 1#1), (k1_t142_loop i v332 v337).OK := fun i v332 v337 k1_hw7 k1_h71 => k1_hw7.1.2.2.2.2.2.2.2.2.2.2.2.2.2.2.2.2.2.2.2.2.2.2.2.2.2.1 k1_h71
theorem k1_off567_inb : ∀ (i : grid1.Coords) (v332 : BitVec 32) (v337 : BitVec 32) (k1_hw7 : k1_chk7 i v332 v337) (k1_t142 : Fin (k1_t142_loop i v332 v337).trips), ∀ (k1_h71 : k1_cond71 i v332 v337 = 1#1), ∀ a, (k1_off567 i v332 v337 k1_t142) a + S1x16.size a ≤ S256x128.size a := fun i v332 v337 k1_hw7 k1_t142 k1_h71 => k1_hw7.1.2.2.2.2.2.2.2.2.2.2.2.2.2.2.2.2.2.2.2.2.2.2.2.2.2.2.1 k1_t142 k1_h71
theorem k1_off568_inb : ∀ (i : grid1.Coords) (v332 : BitVec 32) (v337 : BitVec 32) (k1_hw7 : k1_chk7 i v332 v337) (k1_t142 : Fin (k1_t142_loop i v332 v337).trips), ∀ (k1_h71 : k1_cond71 i v332 v337 = 1#1), ∀ a, (k1_off568 i v332 v337 k1_t142) a + S1x16.size a ≤ S256x128.size a := fun i v332 v337 k1_hw7 k1_t142 k1_h71 => k1_hw7.1.2.2.2.2.2.2.2.2.2.2.2.2.2.2.2.2.2.2.2.2.2.2.2.2.2.2.2.1 k1_t142 k1_h71
theorem k1_off569_inb : ∀ (i : grid1.Coords) (v332 : BitVec 32) (v337 : BitVec 32) (k1_hw7 : k1_chk7 i v332 v337) (k1_t142 : Fin (k1_t142_loop i v332 v337).trips), ∀ (k1_h71 : k1_cond71 i v332 v337 = 1#1), ∀ a, (k1_off569 i v332 v337 k1_t142) a + S1x16.size a ≤ S256x128.size a := fun i v332 v337 k1_hw7 k1_t142 k1_h71 => k1_hw7.1.2.2.2.2.2.2.2.2.2.2.2.2.2.2.2.2.2.2.2.2.2.2.2.2.2.2.2.2.1 k1_t142 k1_h71
theorem k1_off570_inb : ∀ (i : grid1.Coords) (v332 : BitVec 32) (v337 : BitVec 32) (k1_hw7 : k1_chk7 i v332 v337) (k1_t142 : Fin (k1_t142_loop i v332 v337).trips), ∀ (k1_h71 : k1_cond71 i v332 v337 = 1#1), ∀ a, (k1_off570 i v332 v337 k1_t142) a + S1x16.size a ≤ S256x128.size a := fun i v332 v337 k1_hw7 k1_t142 k1_h71 => k1_hw7.1.2.2.2.2.2.2.2.2.2.2.2.2.2.2.2.2.2.2.2.2.2.2.2.2.2.2.2.2.2.1 k1_t142 k1_h71
theorem k1_t205_ok : ∀ (i : grid1.Coords) (v332 : BitVec 32) (v337 : BitVec 32) (k1_hw7 : k1_chk7 i v332 v337), ∀ (k1_h103 : k1_cond103 i v332 v337 = 1#1), (k1_t205_loop i v332 v337).OK := fun i v332 v337 k1_hw7 k1_h103 => k1_hw7.1.2.2.2.2.2.2.2.2.2.2.2.2.2.2.2.2.2.2.2.2.2.2.2.2.2.2.2.2.2.2.1 k1_h103
theorem k1_off819_inb : ∀ (i : grid1.Coords) (v332 : BitVec 32) (v337 : BitVec 32) (k1_hw7 : k1_chk7 i v332 v337) (k1_t205 : Fin (k1_t205_loop i v332 v337).trips), ∀ (k1_h103 : k1_cond103 i v332 v337 = 1#1), ∀ a, (k1_off819 i v332 v337 k1_t205) a + S1x16.size a ≤ S256x128.size a := fun i v332 v337 k1_hw7 k1_t205 k1_h103 => k1_hw7.1.2.2.2.2.2.2.2.2.2.2.2.2.2.2.2.2.2.2.2.2.2.2.2.2.2.2.2.2.2.2.2 k1_t205 k1_h103
theorem k1_off820_inb : ∀ (i : grid1.Coords) (v332 : BitVec 32) (v337 : BitVec 32) (k1_hw7 : k1_chk7 i v332 v337) (k1_t205 : Fin (k1_t205_loop i v332 v337).trips), ∀ (k1_h103 : k1_cond103 i v332 v337 = 1#1), ∀ a, (k1_off820 i v332 v337 k1_t205) a + S1x16.size a ≤ S256x128.size a := fun i v332 v337 k1_hw7 k1_t205 k1_h103 => k1_hw7.2.1 k1_t205 k1_h103
theorem k1_off821_inb : ∀ (i : grid1.Coords) (v332 : BitVec 32) (v337 : BitVec 32) (k1_hw7 : k1_chk7 i v332 v337) (k1_t205 : Fin (k1_t205_loop i v332 v337).trips), ∀ (k1_h103 : k1_cond103 i v332 v337 = 1#1), ∀ a, (k1_off821 i v332 v337 k1_t205) a + S1x16.size a ≤ S256x128.size a := fun i v332 v337 k1_hw7 k1_t205 k1_h103 => k1_hw7.2.2.1 k1_t205 k1_h103
theorem k1_off822_inb : ∀ (i : grid1.Coords) (v332 : BitVec 32) (v337 : BitVec 32) (k1_hw7 : k1_chk7 i v332 v337) (k1_t205 : Fin (k1_t205_loop i v332 v337).trips), ∀ (k1_h103 : k1_cond103 i v332 v337 = 1#1), ∀ a, (k1_off822 i v332 v337 k1_t205) a + S1x16.size a ≤ S256x128.size a := fun i v332 v337 k1_hw7 k1_t205 k1_h103 => k1_hw7.2.2.2.1 k1_t205 k1_h103
theorem k1_t206_ok : ∀ (i : grid1.Coords) (v332 : BitVec 32) (v337 : BitVec 32) (k1_hw7 : k1_chk7 i v332 v337), ∀ (k1_h103 : k1_cond103 i v332 v337 = 1#1), (k1_t206_loop i v332 v337).OK := fun i v332 v337 k1_hw7 k1_h103 => k1_hw7.2.2.2.2.1 k1_h103
theorem k1_off823_inb : ∀ (i : grid1.Coords) (v332 : BitVec 32) (v337 : BitVec 32) (k1_hw7 : k1_chk7 i v332 v337) (k1_t206 : Fin (k1_t206_loop i v332 v337).trips), ∀ (k1_h103 : k1_cond103 i v332 v337 = 1#1), ∀ a, (k1_off823 i v332 v337 k1_t206) a + S1x16.size a ≤ S256x128.size a := fun i v332 v337 k1_hw7 k1_t206 k1_h103 => k1_hw7.2.2.2.2.2.1 k1_t206 k1_h103
theorem k1_off824_inb : ∀ (i : grid1.Coords) (v332 : BitVec 32) (v337 : BitVec 32) (k1_hw7 : k1_chk7 i v332 v337) (k1_t206 : Fin (k1_t206_loop i v332 v337).trips), ∀ (k1_h103 : k1_cond103 i v332 v337 = 1#1), ∀ a, (k1_off824 i v332 v337 k1_t206) a + S1x16.size a ≤ S256x128.size a := fun i v332 v337 k1_hw7 k1_t206 k1_h103 => k1_hw7.2.2.2.2.2.2.1 k1_t206 k1_h103
theorem k1_off825_inb : ∀ (i : grid1.Coords) (v332 : BitVec 32) (v337 : BitVec 32) (k1_hw7 : k1_chk7 i v332 v337) (k1_t206 : Fin (k1_t206_loop i v332 v337).trips), ∀ (k1_h103 : k1_cond103 i v332 v337 = 1#1), ∀ a, (k1_off825 i v332 v337 k1_t206) a + S1x16.size a ≤ S256x128.size a := fun i v332 v337 k1_hw7 k1_t206 k1_h103 => k1_hw7.2.2.2.2.2.2.2.1 k1_t206 k1_h103
theorem k1_off826_inb : ∀ (i : grid1.Coords) (v332 : BitVec 32) (v337 : BitVec 32) (k1_hw7 : k1_chk7 i v332 v337) (k1_t206 : Fin (k1_t206_loop i v332 v337).trips), ∀ (k1_h103 : k1_cond103 i v332 v337 = 1#1), ∀ a, (k1_off826 i v332 v337 k1_t206) a + S1x16.size a ≤ S256x128.size a := fun i v332 v337 k1_hw7 k1_t206 k1_h103 => k1_hw7.2.2.2.2.2.2.2.2 k1_t206 k1_h103

@[reducible] def k1_t207_loop (i : grid1.Coords) (v342 : BitVec 32) (v348 : BitVec 32) : Scf.Loop 32 :=
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let c256_i32_1018 : BitVec 32 := 256#32
  let c0_i32_1017 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c768_i32_1016 : BitVec 32 := 768#32
  let v1571 : BitVec 32 := Scalar.subi v352 c768_i32_1016
  let v1572 : BitVec 32 := Scalar.maxsi c0_i32_1017 v1571
  let v1573 : BitVec 32 := Scalar.minsi c256_i32_1018 v1572
  let v1805 : BitVec 32 := Scalar.subi v1573 v1570
  let c1_i32_1196 : BitVec 32 := 1#32
  let v1807 : BitVec 32 := Scalar.divsi v1805 c1_i32_1196
  let v1808 : BitVec 32 := Scalar.muli v1807 c1_i32_1196
  let v1809 : BitVec 32 := Scalar.addi v1570 v1808
  let c1_i32_1197 : BitVec 32 := 1#32
  ⟨v1570, v1809, c1_i32_1197⟩
def k1_cond104 (i : grid1.Coords) (v342 : BitVec 32) (v348 : BitVec 32) : BitVec 1 :=
  let c256_i32_1018 : BitVec 32 := 256#32
  let c0_i32_1017 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v350 : BitVec 32 := Scalar.subi v349 v3
  let v351 : BitVec 32 := Scalar.maxsi c0_i32_149 v350
  let v352 : BitVec 32 := Scalar.minsi c1024_i32_150 v351
  let c768_i32_1016 : BitVec 32 := 768#32
  let v1571 : BitVec 32 := Scalar.subi v352 c768_i32_1016
  let v1572 : BitVec 32 := Scalar.maxsi c0_i32_1017 v1571
  let v1573 : BitVec 32 := Scalar.minsi c256_i32_1018 v1572
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let v1574 : BitVec 1 := Scalar.cmpi .sgt v1573 v1570
  let v1575 : BitVec 32 := Scalar.extui v1574
  let c0_i32_1019 : BitVec 32 := 0#32
  let v1576 : BitVec 1 := Scalar.cmpi .ne v1575 c0_i32_1019
  v1576

def k1_off827 (i : grid1.Coords) (v342 : BitVec 32) (v348 : BitVec 32) (k1_t207 : Fin (k1_t207_loop i v342 v348).trips) : Fin 2 → Nat :=
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let c1_i32_1197 : BitVec 32 := 1#32
  let arg13 : BitVec 32 := Scf.iv v1570 c1_i32_1197 k1_t207
  let v1828 : Index := Scalar.indexCast arg13
  let c64 : Index := 64#32
  ![v1828.toNat, 64]
def k1_off828 (i : grid1.Coords) (v342 : BitVec 32) (v348 : BitVec 32) (k1_t207 : Fin (k1_t207_loop i v342 v348).trips) : Fin 2 → Nat :=
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let c1_i32_1197 : BitVec 32 := 1#32
  let arg13 : BitVec 32 := Scf.iv v1570 c1_i32_1197 k1_t207
  let v1832 : Index := Scalar.indexCast arg13
  let c80 : Index := 80#32
  ![v1832.toNat, 80]
def k1_off829 (i : grid1.Coords) (v342 : BitVec 32) (v348 : BitVec 32) (k1_t207 : Fin (k1_t207_loop i v342 v348).trips) : Fin 2 → Nat :=
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let c1_i32_1197 : BitVec 32 := 1#32
  let arg13 : BitVec 32 := Scf.iv v1570 c1_i32_1197 k1_t207
  let v1836 : Index := Scalar.indexCast arg13
  let c96 : Index := 96#32
  ![v1836.toNat, 96]
def k1_off830 (i : grid1.Coords) (v342 : BitVec 32) (v348 : BitVec 32) (k1_t207 : Fin (k1_t207_loop i v342 v348).trips) : Fin 2 → Nat :=
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let c1_i32_1197 : BitVec 32 := 1#32
  let arg13 : BitVec 32 := Scf.iv v1570 c1_i32_1197 k1_t207
  let v1840 : Index := Scalar.indexCast arg13
  let c112 : Index := 112#32
  ![v1840.toNat, 112]
@[reducible] def k1_t208_loop (i : grid1.Coords) (v342 : BitVec 32) (v348 : BitVec 32) : Scf.Loop 32 :=
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let c256_i32_1018 : BitVec 32 := 256#32
  let c0_i32_1017 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c768_i32_1016 : BitVec 32 := 768#32
  let v1571 : BitVec 32 := Scalar.subi v352 c768_i32_1016
  let v1572 : BitVec 32 := Scalar.maxsi c0_i32_1017 v1571
  let v1573 : BitVec 32 := Scalar.minsi c256_i32_1018 v1572
  let v1805 : BitVec 32 := Scalar.subi v1573 v1570
  let c1_i32_1196 : BitVec 32 := 1#32
  let v1807 : BitVec 32 := Scalar.divsi v1805 c1_i32_1196
  let v1808 : BitVec 32 := Scalar.muli v1807 c1_i32_1196
  let v1809 : BitVec 32 := Scalar.addi v1570 v1808
  let v1806 : BitVec 32 := Scalar.addi v1570 v1805
  let c1_i32_1198 : BitVec 32 := 1#32
  ⟨v1809, v1806, c1_i32_1198⟩
def k1_off831 (i : grid1.Coords) (v342 : BitVec 32) (v348 : BitVec 32) (k1_t208 : Fin (k1_t208_loop i v342 v348).trips) : Fin 2 → Nat :=
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let c256_i32_1018 : BitVec 32 := 256#32
  let c0_i32_1017 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c768_i32_1016 : BitVec 32 := 768#32
  let v1571 : BitVec 32 := Scalar.subi v352 c768_i32_1016
  let v1572 : BitVec 32 := Scalar.maxsi c0_i32_1017 v1571
  let v1573 : BitVec 32 := Scalar.minsi c256_i32_1018 v1572
  let v1805 : BitVec 32 := Scalar.subi v1573 v1570
  let c1_i32_1196 : BitVec 32 := 1#32
  let v1807 : BitVec 32 := Scalar.divsi v1805 c1_i32_1196
  let v1808 : BitVec 32 := Scalar.muli v1807 c1_i32_1196
  let v1809 : BitVec 32 := Scalar.addi v1570 v1808
  let c1_i32_1198 : BitVec 32 := 1#32
  let arg13 : BitVec 32 := Scf.iv v1809 c1_i32_1198 k1_t208
  let v1828 : Index := Scalar.indexCast arg13
  let c64 : Index := 64#32
  ![v1828.toNat, 64]
def k1_off832 (i : grid1.Coords) (v342 : BitVec 32) (v348 : BitVec 32) (k1_t208 : Fin (k1_t208_loop i v342 v348).trips) : Fin 2 → Nat :=
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let c256_i32_1018 : BitVec 32 := 256#32
  let c0_i32_1017 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c768_i32_1016 : BitVec 32 := 768#32
  let v1571 : BitVec 32 := Scalar.subi v352 c768_i32_1016
  let v1572 : BitVec 32 := Scalar.maxsi c0_i32_1017 v1571
  let v1573 : BitVec 32 := Scalar.minsi c256_i32_1018 v1572
  let v1805 : BitVec 32 := Scalar.subi v1573 v1570
  let c1_i32_1196 : BitVec 32 := 1#32
  let v1807 : BitVec 32 := Scalar.divsi v1805 c1_i32_1196
  let v1808 : BitVec 32 := Scalar.muli v1807 c1_i32_1196
  let v1809 : BitVec 32 := Scalar.addi v1570 v1808
  let c1_i32_1198 : BitVec 32 := 1#32
  let arg13 : BitVec 32 := Scf.iv v1809 c1_i32_1198 k1_t208
  let v1832 : Index := Scalar.indexCast arg13
  let c80 : Index := 80#32
  ![v1832.toNat, 80]
def k1_off833 (i : grid1.Coords) (v342 : BitVec 32) (v348 : BitVec 32) (k1_t208 : Fin (k1_t208_loop i v342 v348).trips) : Fin 2 → Nat :=
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let c256_i32_1018 : BitVec 32 := 256#32
  let c0_i32_1017 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c768_i32_1016 : BitVec 32 := 768#32
  let v1571 : BitVec 32 := Scalar.subi v352 c768_i32_1016
  let v1572 : BitVec 32 := Scalar.maxsi c0_i32_1017 v1571
  let v1573 : BitVec 32 := Scalar.minsi c256_i32_1018 v1572
  let v1805 : BitVec 32 := Scalar.subi v1573 v1570
  let c1_i32_1196 : BitVec 32 := 1#32
  let v1807 : BitVec 32 := Scalar.divsi v1805 c1_i32_1196
  let v1808 : BitVec 32 := Scalar.muli v1807 c1_i32_1196
  let v1809 : BitVec 32 := Scalar.addi v1570 v1808
  let c1_i32_1198 : BitVec 32 := 1#32
  let arg13 : BitVec 32 := Scf.iv v1809 c1_i32_1198 k1_t208
  let v1836 : Index := Scalar.indexCast arg13
  let c96 : Index := 96#32
  ![v1836.toNat, 96]
def k1_off834 (i : grid1.Coords) (v342 : BitVec 32) (v348 : BitVec 32) (k1_t208 : Fin (k1_t208_loop i v342 v348).trips) : Fin 2 → Nat :=
  let c256_i32_1015 : BitVec 32 := 256#32
  let c0_i32_1014 : BitVec 32 := 0#32
  let c1024_i32_147 : BitVec 32 := 1024#32
  let c0_i32_146 : BitVec 32 := 0#32
  let c65536_i32_145 : BitVec 32 := 65536#32
  let v343 : BitVec 32 := Scalar.subi v342 c65536_i32_145
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v344 : BitVec 32 := Scalar.subi v343 v3
  let v345 : BitVec 32 := Scalar.maxsi c0_i32_146 v344
  let v346 : BitVec 32 := Scalar.minsi c1024_i32_147 v345
  let c768_i32_1013 : BitVec 32 := 768#32
  let v1568 : BitVec 32 := Scalar.subi v346 c768_i32_1013
  let v1569 : BitVec 32 := Scalar.maxsi c0_i32_1014 v1568
  let v1570 : BitVec 32 := Scalar.minsi c256_i32_1015 v1569
  let c256_i32_1018 : BitVec 32 := 256#32
  let c0_i32_1017 : BitVec 32 := 0#32
  let c1024_i32_150 : BitVec 32 := 1024#32
  let c0_i32_149 : BitVec 32 := 0#32
  let c65536_i32_148 : BitVec 32 := 65536#32
  let v349 : BitVec 32 := Scalar.subi v348 c65536_i32_148
  let v350 : BitVec 32 := Scalar.subi v349 v3
  let v351 : BitVec 32 := Scalar.maxsi c0_i32_149 v350
  let v352 : BitVec 32 := Scalar.minsi c1024_i32_150 v351
  let c768_i32_1016 : BitVec 32 := 768#32
  let v1571 : BitVec 32 := Scalar.subi v352 c768_i32_1016
  let v1572 : BitVec 32 := Scalar.maxsi c0_i32_1017 v1571
  let v1573 : BitVec 32 := Scalar.minsi c256_i32_1018 v1572
  let v1805 : BitVec 32 := Scalar.subi v1573 v1570
  let c1_i32_1196 : BitVec 32 := 1#32
  let v1807 : BitVec 32 := Scalar.divsi v1805 c1_i32_1196
  let v1808 : BitVec 32 := Scalar.muli v1807 c1_i32_1196
  let v1809 : BitVec 32 := Scalar.addi v1570 v1808
  let c1_i32_1198 : BitVec 32 := 1#32
  let arg13 : BitVec 32 := Scf.iv v1809 c1_i32_1198 k1_t208
  let v1840 : Index := Scalar.indexCast arg13
  let c112 : Index := 112#32
  ![v1840.toNat, 112]

def k1_chk8_0 (i : grid1.Coords) (v342 : BitVec 32) (v348 : BitVec 32) : Prop :=
  (∀ (k1_h8 : k1_cond8 i v342 v348 = 1#1), (k1_t15_loop i v342 v348).OK) ∧
  (∀ k1_t15 : Fin (k1_t15_loop i v342 v348).trips, ∀ (k1_h8 : k1_cond8 i v342 v348 = 1#1), ∀ a, (k1_off58 i v342 v348 k1_t15) a + S1x16.size a ≤ S256x128.size a) ∧
  (∀ k1_t15 : Fin (k1_t15_loop i v342 v348).trips, ∀ (k1_h8 : k1_cond8 i v342 v348 = 1#1), ∀ a, (k1_off59 i v342 v348 k1_t15) a + S1x16.size a ≤ S256x128.size a) ∧
  (∀ k1_t15 : Fin (k1_t15_loop i v342 v348).trips, ∀ (k1_h8 : k1_cond8 i v342 v348 = 1#1), ∀ a, (k1_off60 i v342 v348 k1_t15) a + S1x16.size a ≤ S256x128.size a) ∧
  (∀ k1_t15 : Fin (k1_t15_loop i v342 v348).trips, ∀ (k1_h8 : k1_cond8 i v342 v348 = 1#1), ∀ a, (k1_off61 i v342 v348 k1_t15) a + S1x16.size a ≤ S256x128.size a) ∧
  (∀ (k1_h8 : k1_cond8 i v342 v348 = 1#1), (k1_t16_loop i v342 v348).OK) ∧
  (∀ k1_t16 : Fin (k1_t16_loop i v342 v348).trips, ∀ (k1_h8 : k1_cond8 i v342 v348 = 1#1), ∀ a, (k1_off62 i v342 v348 k1_t16) a + S1x16.size a ≤ S256x128.size a) ∧
  (∀ k1_t16 : Fin (k1_t16_loop i v342 v348).trips, ∀ (k1_h8 : k1_cond8 i v342 v348 = 1#1), ∀ a, (k1_off63 i v342 v348 k1_t16) a + S1x16.size a ≤ S256x128.size a) ∧
  (∀ k1_t16 : Fin (k1_t16_loop i v342 v348).trips, ∀ (k1_h8 : k1_cond8 i v342 v348 = 1#1), ∀ a, (k1_off64 i v342 v348 k1_t16) a + S1x16.size a ≤ S256x128.size a) ∧
  (∀ k1_t16 : Fin (k1_t16_loop i v342 v348).trips, ∀ (k1_h8 : k1_cond8 i v342 v348 = 1#1), ∀ a, (k1_off65 i v342 v348 k1_t16) a + S1x16.size a ≤ S256x128.size a) ∧
  (∀ (k1_h40 : k1_cond40 i v342 v348 = 1#1), (k1_t79_loop i v342 v348).OK) ∧
  (∀ k1_t79 : Fin (k1_t79_loop i v342 v348).trips, ∀ (k1_h40 : k1_cond40 i v342 v348 = 1#1), ∀ a, (k1_off315 i v342 v348 k1_t79) a + S1x16.size a ≤ S256x128.size a) ∧
  (∀ k1_t79 : Fin (k1_t79_loop i v342 v348).trips, ∀ (k1_h40 : k1_cond40 i v342 v348 = 1#1), ∀ a, (k1_off316 i v342 v348 k1_t79) a + S1x16.size a ≤ S256x128.size a) ∧
  (∀ k1_t79 : Fin (k1_t79_loop i v342 v348).trips, ∀ (k1_h40 : k1_cond40 i v342 v348 = 1#1), ∀ a, (k1_off317 i v342 v348 k1_t79) a + S1x16.size a ≤ S256x128.size a) ∧
  (∀ k1_t79 : Fin (k1_t79_loop i v342 v348).trips, ∀ (k1_h40 : k1_cond40 i v342 v348 = 1#1), ∀ a, (k1_off318 i v342 v348 k1_t79) a + S1x16.size a ≤ S256x128.size a) ∧
  (∀ (k1_h40 : k1_cond40 i v342 v348 = 1#1), (k1_t80_loop i v342 v348).OK) ∧
  (∀ k1_t80 : Fin (k1_t80_loop i v342 v348).trips, ∀ (k1_h40 : k1_cond40 i v342 v348 = 1#1), ∀ a, (k1_off319 i v342 v348 k1_t80) a + S1x16.size a ≤ S256x128.size a) ∧
  (∀ k1_t80 : Fin (k1_t80_loop i v342 v348).trips, ∀ (k1_h40 : k1_cond40 i v342 v348 = 1#1), ∀ a, (k1_off320 i v342 v348 k1_t80) a + S1x16.size a ≤ S256x128.size a) ∧
  (∀ k1_t80 : Fin (k1_t80_loop i v342 v348).trips, ∀ (k1_h40 : k1_cond40 i v342 v348 = 1#1), ∀ a, (k1_off321 i v342 v348 k1_t80) a + S1x16.size a ≤ S256x128.size a) ∧
  (∀ k1_t80 : Fin (k1_t80_loop i v342 v348).trips, ∀ (k1_h40 : k1_cond40 i v342 v348 = 1#1), ∀ a, (k1_off322 i v342 v348 k1_t80) a + S1x16.size a ≤ S256x128.size a) ∧
  (∀ (k1_h72 : k1_cond72 i v342 v348 = 1#1), (k1_t143_loop i v342 v348).OK) ∧
  (∀ k1_t143 : Fin (k1_t143_loop i v342 v348).trips, ∀ (k1_h72 : k1_cond72 i v342 v348 = 1#1), ∀ a, (k1_off571 i v342 v348 k1_t143) a + S1x16.size a ≤ S256x128.size a) ∧
  (∀ k1_t143 : Fin (k1_t143_loop i v342 v348).trips, ∀ (k1_h72 : k1_cond72 i v342 v348 = 1#1), ∀ a, (k1_off572 i v342 v348 k1_t143) a + S1x16.size a ≤ S256x128.size a) ∧
  (∀ k1_t143 : Fin (k1_t143_loop i v342 v348).trips, ∀ (k1_h72 : k1_cond72 i v342 v348 = 1#1), ∀ a, (k1_off573 i v342 v348 k1_t143) a + S1x16.size a ≤ S256x128.size a) ∧
  (∀ k1_t143 : Fin (k1_t143_loop i v342 v348).trips, ∀ (k1_h72 : k1_cond72 i v342 v348 = 1#1), ∀ a, (k1_off574 i v342 v348 k1_t143) a + S1x16.size a ≤ S256x128.size a) ∧
  (∀ (k1_h72 : k1_cond72 i v342 v348 = 1#1), (k1_t144_loop i v342 v348).OK) ∧
  (∀ k1_t144 : Fin (k1_t144_loop i v342 v348).trips, ∀ (k1_h72 : k1_cond72 i v342 v348 = 1#1), ∀ a, (k1_off575 i v342 v348 k1_t144) a + S1x16.size a ≤ S256x128.size a) ∧
  (∀ k1_t144 : Fin (k1_t144_loop i v342 v348).trips, ∀ (k1_h72 : k1_cond72 i v342 v348 = 1#1), ∀ a, (k1_off576 i v342 v348 k1_t144) a + S1x16.size a ≤ S256x128.size a) ∧
  (∀ k1_t144 : Fin (k1_t144_loop i v342 v348).trips, ∀ (k1_h72 : k1_cond72 i v342 v348 = 1#1), ∀ a, (k1_off577 i v342 v348 k1_t144) a + S1x16.size a ≤ S256x128.size a) ∧
  (∀ k1_t144 : Fin (k1_t144_loop i v342 v348).trips, ∀ (k1_h72 : k1_cond72 i v342 v348 = 1#1), ∀ a, (k1_off578 i v342 v348 k1_t144) a + S1x16.size a ≤ S256x128.size a) ∧
  (∀ (k1_h104 : k1_cond104 i v342 v348 = 1#1), (k1_t207_loop i v342 v348).OK) ∧
  (∀ k1_t207 : Fin (k1_t207_loop i v342 v348).trips, ∀ (k1_h104 : k1_cond104 i v342 v348 = 1#1), ∀ a, (k1_off827 i v342 v348 k1_t207) a + S1x16.size a ≤ S256x128.size a)
def k1_chk8_1 (i : grid1.Coords) (v342 : BitVec 32) (v348 : BitVec 32) : Prop :=
  (∀ k1_t207 : Fin (k1_t207_loop i v342 v348).trips, ∀ (k1_h104 : k1_cond104 i v342 v348 = 1#1), ∀ a, (k1_off828 i v342 v348 k1_t207) a + S1x16.size a ≤ S256x128.size a) ∧
  (∀ k1_t207 : Fin (k1_t207_loop i v342 v348).trips, ∀ (k1_h104 : k1_cond104 i v342 v348 = 1#1), ∀ a, (k1_off829 i v342 v348 k1_t207) a + S1x16.size a ≤ S256x128.size a) ∧
  (∀ k1_t207 : Fin (k1_t207_loop i v342 v348).trips, ∀ (k1_h104 : k1_cond104 i v342 v348 = 1#1), ∀ a, (k1_off830 i v342 v348 k1_t207) a + S1x16.size a ≤ S256x128.size a) ∧
  (∀ (k1_h104 : k1_cond104 i v342 v348 = 1#1), (k1_t208_loop i v342 v348).OK) ∧
  (∀ k1_t208 : Fin (k1_t208_loop i v342 v348).trips, ∀ (k1_h104 : k1_cond104 i v342 v348 = 1#1), ∀ a, (k1_off831 i v342 v348 k1_t208) a + S1x16.size a ≤ S256x128.size a) ∧
  (∀ k1_t208 : Fin (k1_t208_loop i v342 v348).trips, ∀ (k1_h104 : k1_cond104 i v342 v348 = 1#1), ∀ a, (k1_off832 i v342 v348 k1_t208) a + S1x16.size a ≤ S256x128.size a) ∧
  (∀ k1_t208 : Fin (k1_t208_loop i v342 v348).trips, ∀ (k1_h104 : k1_cond104 i v342 v348 = 1#1), ∀ a, (k1_off833 i v342 v348 k1_t208) a + S1x16.size a ≤ S256x128.size a) ∧
  (∀ k1_t208 : Fin (k1_t208_loop i v342 v348).trips, ∀ (k1_h104 : k1_cond104 i v342 v348 = 1#1), ∀ a, (k1_off834 i v342 v348 k1_t208) a + S1x16.size a ≤ S256x128.size a)
def k1_chk8 (i : grid1.Coords) (v342 : BitVec 32) (v348 : BitVec 32) : Prop :=
  k1_chk8_0 i v342 v348 ∧
  k1_chk8_1 i v342 v348
theorem k1_t15_ok : ∀ (i : grid1.Coords) (v342 : BitVec 32) (v348 : BitVec 32) (k1_hw8 : k1_chk8 i v342 v348), ∀ (k1_h8 : k1_cond8 i v342 v348 = 1#1), (k1_t15_loop i v342 v348).OK := fun i v342 v348 k1_hw8 k1_h8 => k1_hw8.1.1 k1_h8
theorem k1_off58_inb : ∀ (i : grid1.Coords) (v342 : BitVec 32) (v348 : BitVec 32) (k1_hw8 : k1_chk8 i v342 v348) (k1_t15 : Fin (k1_t15_loop i v342 v348).trips), ∀ (k1_h8 : k1_cond8 i v342 v348 = 1#1), ∀ a, (k1_off58 i v342 v348 k1_t15) a + S1x16.size a ≤ S256x128.size a := fun i v342 v348 k1_hw8 k1_t15 k1_h8 => k1_hw8.1.2.1 k1_t15 k1_h8
theorem k1_off59_inb : ∀ (i : grid1.Coords) (v342 : BitVec 32) (v348 : BitVec 32) (k1_hw8 : k1_chk8 i v342 v348) (k1_t15 : Fin (k1_t15_loop i v342 v348).trips), ∀ (k1_h8 : k1_cond8 i v342 v348 = 1#1), ∀ a, (k1_off59 i v342 v348 k1_t15) a + S1x16.size a ≤ S256x128.size a := fun i v342 v348 k1_hw8 k1_t15 k1_h8 => k1_hw8.1.2.2.1 k1_t15 k1_h8
theorem k1_off60_inb : ∀ (i : grid1.Coords) (v342 : BitVec 32) (v348 : BitVec 32) (k1_hw8 : k1_chk8 i v342 v348) (k1_t15 : Fin (k1_t15_loop i v342 v348).trips), ∀ (k1_h8 : k1_cond8 i v342 v348 = 1#1), ∀ a, (k1_off60 i v342 v348 k1_t15) a + S1x16.size a ≤ S256x128.size a := fun i v342 v348 k1_hw8 k1_t15 k1_h8 => k1_hw8.1.2.2.2.1 k1_t15 k1_h8
theorem k1_off61_inb : ∀ (i : grid1.Coords) (v342 : BitVec 32) (v348 : BitVec 32) (k1_hw8 : k1_chk8 i v342 v348) (k1_t15 : Fin (k1_t15_loop i v342 v348).trips), ∀ (k1_h8 : k1_cond8 i v342 v348 = 1#1), ∀ a, (k1_off61 i v342 v348 k1_t15) a + S1x16.size a ≤ S256x128.size a := fun i v342 v348 k1_hw8 k1_t15 k1_h8 => k1_hw8.1.2.2.2.2.1 k1_t15 k1_h8
theorem k1_t16_ok : ∀ (i : grid1.Coords) (v342 : BitVec 32) (v348 : BitVec 32) (k1_hw8 : k1_chk8 i v342 v348), ∀ (k1_h8 : k1_cond8 i v342 v348 = 1#1), (k1_t16_loop i v342 v348).OK := fun i v342 v348 k1_hw8 k1_h8 => k1_hw8.1.2.2.2.2.2.1 k1_h8
theorem k1_off62_inb : ∀ (i : grid1.Coords) (v342 : BitVec 32) (v348 : BitVec 32) (k1_hw8 : k1_chk8 i v342 v348) (k1_t16 : Fin (k1_t16_loop i v342 v348).trips), ∀ (k1_h8 : k1_cond8 i v342 v348 = 1#1), ∀ a, (k1_off62 i v342 v348 k1_t16) a + S1x16.size a ≤ S256x128.size a := fun i v342 v348 k1_hw8 k1_t16 k1_h8 => k1_hw8.1.2.2.2.2.2.2.1 k1_t16 k1_h8
theorem k1_off63_inb : ∀ (i : grid1.Coords) (v342 : BitVec 32) (v348 : BitVec 32) (k1_hw8 : k1_chk8 i v342 v348) (k1_t16 : Fin (k1_t16_loop i v342 v348).trips), ∀ (k1_h8 : k1_cond8 i v342 v348 = 1#1), ∀ a, (k1_off63 i v342 v348 k1_t16) a + S1x16.size a ≤ S256x128.size a := fun i v342 v348 k1_hw8 k1_t16 k1_h8 => k1_hw8.1.2.2.2.2.2.2.2.1 k1_t16 k1_h8
theorem k1_off64_inb : ∀ (i : grid1.Coords) (v342 : BitVec 32) (v348 : BitVec 32) (k1_hw8 : k1_chk8 i v342 v348) (k1_t16 : Fin (k1_t16_loop i v342 v348).trips), ∀ (k1_h8 : k1_cond8 i v342 v348 = 1#1), ∀ a, (k1_off64 i v342 v348 k1_t16) a + S1x16.size a ≤ S256x128.size a := fun i v342 v348 k1_hw8 k1_t16 k1_h8 => k1_hw8.1.2.2.2.2.2.2.2.2.1 k1_t16 k1_h8
theorem k1_off65_inb : ∀ (i : grid1.Coords) (v342 : BitVec 32) (v348 : BitVec 32) (k1_hw8 : k1_chk8 i v342 v348) (k1_t16 : Fin (k1_t16_loop i v342 v348).trips), ∀ (k1_h8 : k1_cond8 i v342 v348 = 1#1), ∀ a, (k1_off65 i v342 v348 k1_t16) a + S1x16.size a ≤ S256x128.size a := fun i v342 v348 k1_hw8 k1_t16 k1_h8 => k1_hw8.1.2.2.2.2.2.2.2.2.2.1 k1_t16 k1_h8
theorem k1_t79_ok : ∀ (i : grid1.Coords) (v342 : BitVec 32) (v348 : BitVec 32) (k1_hw8 : k1_chk8 i v342 v348), ∀ (k1_h40 : k1_cond40 i v342 v348 = 1#1), (k1_t79_loop i v342 v348).OK := fun i v342 v348 k1_hw8 k1_h40 => k1_hw8.1.2.2.2.2.2.2.2.2.2.2.1 k1_h40
theorem k1_off315_inb : ∀ (i : grid1.Coords) (v342 : BitVec 32) (v348 : BitVec 32) (k1_hw8 : k1_chk8 i v342 v348) (k1_t79 : Fin (k1_t79_loop i v342 v348).trips), ∀ (k1_h40 : k1_cond40 i v342 v348 = 1#1), ∀ a, (k1_off315 i v342 v348 k1_t79) a + S1x16.size a ≤ S256x128.size a := fun i v342 v348 k1_hw8 k1_t79 k1_h40 => k1_hw8.1.2.2.2.2.2.2.2.2.2.2.2.1 k1_t79 k1_h40
theorem k1_off316_inb : ∀ (i : grid1.Coords) (v342 : BitVec 32) (v348 : BitVec 32) (k1_hw8 : k1_chk8 i v342 v348) (k1_t79 : Fin (k1_t79_loop i v342 v348).trips), ∀ (k1_h40 : k1_cond40 i v342 v348 = 1#1), ∀ a, (k1_off316 i v342 v348 k1_t79) a + S1x16.size a ≤ S256x128.size a := fun i v342 v348 k1_hw8 k1_t79 k1_h40 => k1_hw8.1.2.2.2.2.2.2.2.2.2.2.2.2.1 k1_t79 k1_h40
theorem k1_off317_inb : ∀ (i : grid1.Coords) (v342 : BitVec 32) (v348 : BitVec 32) (k1_hw8 : k1_chk8 i v342 v348) (k1_t79 : Fin (k1_t79_loop i v342 v348).trips), ∀ (k1_h40 : k1_cond40 i v342 v348 = 1#1), ∀ a, (k1_off317 i v342 v348 k1_t79) a + S1x16.size a ≤ S256x128.size a := fun i v342 v348 k1_hw8 k1_t79 k1_h40 => k1_hw8.1.2.2.2.2.2.2.2.2.2.2.2.2.2.1 k1_t79 k1_h40
theorem k1_off318_inb : ∀ (i : grid1.Coords) (v342 : BitVec 32) (v348 : BitVec 32) (k1_hw8 : k1_chk8 i v342 v348) (k1_t79 : Fin (k1_t79_loop i v342 v348).trips), ∀ (k1_h40 : k1_cond40 i v342 v348 = 1#1), ∀ a, (k1_off318 i v342 v348 k1_t79) a + S1x16.size a ≤ S256x128.size a := fun i v342 v348 k1_hw8 k1_t79 k1_h40 => k1_hw8.1.2.2.2.2.2.2.2.2.2.2.2.2.2.2.1 k1_t79 k1_h40
theorem k1_t80_ok : ∀ (i : grid1.Coords) (v342 : BitVec 32) (v348 : BitVec 32) (k1_hw8 : k1_chk8 i v342 v348), ∀ (k1_h40 : k1_cond40 i v342 v348 = 1#1), (k1_t80_loop i v342 v348).OK := fun i v342 v348 k1_hw8 k1_h40 => k1_hw8.1.2.2.2.2.2.2.2.2.2.2.2.2.2.2.2.1 k1_h40
theorem k1_off319_inb : ∀ (i : grid1.Coords) (v342 : BitVec 32) (v348 : BitVec 32) (k1_hw8 : k1_chk8 i v342 v348) (k1_t80 : Fin (k1_t80_loop i v342 v348).trips), ∀ (k1_h40 : k1_cond40 i v342 v348 = 1#1), ∀ a, (k1_off319 i v342 v348 k1_t80) a + S1x16.size a ≤ S256x128.size a := fun i v342 v348 k1_hw8 k1_t80 k1_h40 => k1_hw8.1.2.2.2.2.2.2.2.2.2.2.2.2.2.2.2.2.1 k1_t80 k1_h40
theorem k1_off320_inb : ∀ (i : grid1.Coords) (v342 : BitVec 32) (v348 : BitVec 32) (k1_hw8 : k1_chk8 i v342 v348) (k1_t80 : Fin (k1_t80_loop i v342 v348).trips), ∀ (k1_h40 : k1_cond40 i v342 v348 = 1#1), ∀ a, (k1_off320 i v342 v348 k1_t80) a + S1x16.size a ≤ S256x128.size a := fun i v342 v348 k1_hw8 k1_t80 k1_h40 => k1_hw8.1.2.2.2.2.2.2.2.2.2.2.2.2.2.2.2.2.2.1 k1_t80 k1_h40
theorem k1_off321_inb : ∀ (i : grid1.Coords) (v342 : BitVec 32) (v348 : BitVec 32) (k1_hw8 : k1_chk8 i v342 v348) (k1_t80 : Fin (k1_t80_loop i v342 v348).trips), ∀ (k1_h40 : k1_cond40 i v342 v348 = 1#1), ∀ a, (k1_off321 i v342 v348 k1_t80) a + S1x16.size a ≤ S256x128.size a := fun i v342 v348 k1_hw8 k1_t80 k1_h40 => k1_hw8.1.2.2.2.2.2.2.2.2.2.2.2.2.2.2.2.2.2.2.1 k1_t80 k1_h40
theorem k1_off322_inb : ∀ (i : grid1.Coords) (v342 : BitVec 32) (v348 : BitVec 32) (k1_hw8 : k1_chk8 i v342 v348) (k1_t80 : Fin (k1_t80_loop i v342 v348).trips), ∀ (k1_h40 : k1_cond40 i v342 v348 = 1#1), ∀ a, (k1_off322 i v342 v348 k1_t80) a + S1x16.size a ≤ S256x128.size a := fun i v342 v348 k1_hw8 k1_t80 k1_h40 => k1_hw8.1.2.2.2.2.2.2.2.2.2.2.2.2.2.2.2.2.2.2.2.1 k1_t80 k1_h40
theorem k1_t143_ok : ∀ (i : grid1.Coords) (v342 : BitVec 32) (v348 : BitVec 32) (k1_hw8 : k1_chk8 i v342 v348), ∀ (k1_h72 : k1_cond72 i v342 v348 = 1#1), (k1_t143_loop i v342 v348).OK := fun i v342 v348 k1_hw8 k1_h72 => k1_hw8.1.2.2.2.2.2.2.2.2.2.2.2.2.2.2.2.2.2.2.2.2.1 k1_h72
theorem k1_off571_inb : ∀ (i : grid1.Coords) (v342 : BitVec 32) (v348 : BitVec 32) (k1_hw8 : k1_chk8 i v342 v348) (k1_t143 : Fin (k1_t143_loop i v342 v348).trips), ∀ (k1_h72 : k1_cond72 i v342 v348 = 1#1), ∀ a, (k1_off571 i v342 v348 k1_t143) a + S1x16.size a ≤ S256x128.size a := fun i v342 v348 k1_hw8 k1_t143 k1_h72 => k1_hw8.1.2.2.2.2.2.2.2.2.2.2.2.2.2.2.2.2.2.2.2.2.2.1 k1_t143 k1_h72
theorem k1_off572_inb : ∀ (i : grid1.Coords) (v342 : BitVec 32) (v348 : BitVec 32) (k1_hw8 : k1_chk8 i v342 v348) (k1_t143 : Fin (k1_t143_loop i v342 v348).trips), ∀ (k1_h72 : k1_cond72 i v342 v348 = 1#1), ∀ a, (k1_off572 i v342 v348 k1_t143) a + S1x16.size a ≤ S256x128.size a := fun i v342 v348 k1_hw8 k1_t143 k1_h72 => k1_hw8.1.2.2.2.2.2.2.2.2.2.2.2.2.2.2.2.2.2.2.2.2.2.2.1 k1_t143 k1_h72
theorem k1_off573_inb : ∀ (i : grid1.Coords) (v342 : BitVec 32) (v348 : BitVec 32) (k1_hw8 : k1_chk8 i v342 v348) (k1_t143 : Fin (k1_t143_loop i v342 v348).trips), ∀ (k1_h72 : k1_cond72 i v342 v348 = 1#1), ∀ a, (k1_off573 i v342 v348 k1_t143) a + S1x16.size a ≤ S256x128.size a := fun i v342 v348 k1_hw8 k1_t143 k1_h72 => k1_hw8.1.2.2.2.2.2.2.2.2.2.2.2.2.2.2.2.2.2.2.2.2.2.2.2.1 k1_t143 k1_h72
theorem k1_off574_inb : ∀ (i : grid1.Coords) (v342 : BitVec 32) (v348 : BitVec 32) (k1_hw8 : k1_chk8 i v342 v348) (k1_t143 : Fin (k1_t143_loop i v342 v348).trips), ∀ (k1_h72 : k1_cond72 i v342 v348 = 1#1), ∀ a, (k1_off574 i v342 v348 k1_t143) a + S1x16.size a ≤ S256x128.size a := fun i v342 v348 k1_hw8 k1_t143 k1_h72 => k1_hw8.1.2.2.2.2.2.2.2.2.2.2.2.2.2.2.2.2.2.2.2.2.2.2.2.2.1 k1_t143 k1_h72
theorem k1_t144_ok : ∀ (i : grid1.Coords) (v342 : BitVec 32) (v348 : BitVec 32) (k1_hw8 : k1_chk8 i v342 v348), ∀ (k1_h72 : k1_cond72 i v342 v348 = 1#1), (k1_t144_loop i v342 v348).OK := fun i v342 v348 k1_hw8 k1_h72 => k1_hw8.1.2.2.2.2.2.2.2.2.2.2.2.2.2.2.2.2.2.2.2.2.2.2.2.2.2.1 k1_h72
theorem k1_off575_inb : ∀ (i : grid1.Coords) (v342 : BitVec 32) (v348 : BitVec 32) (k1_hw8 : k1_chk8 i v342 v348) (k1_t144 : Fin (k1_t144_loop i v342 v348).trips), ∀ (k1_h72 : k1_cond72 i v342 v348 = 1#1), ∀ a, (k1_off575 i v342 v348 k1_t144) a + S1x16.size a ≤ S256x128.size a := fun i v342 v348 k1_hw8 k1_t144 k1_h72 => k1_hw8.1.2.2.2.2.2.2.2.2.2.2.2.2.2.2.2.2.2.2.2.2.2.2.2.2.2.2.1 k1_t144 k1_h72
theorem k1_off576_inb : ∀ (i : grid1.Coords) (v342 : BitVec 32) (v348 : BitVec 32) (k1_hw8 : k1_chk8 i v342 v348) (k1_t144 : Fin (k1_t144_loop i v342 v348).trips), ∀ (k1_h72 : k1_cond72 i v342 v348 = 1#1), ∀ a, (k1_off576 i v342 v348 k1_t144) a + S1x16.size a ≤ S256x128.size a := fun i v342 v348 k1_hw8 k1_t144 k1_h72 => k1_hw8.1.2.2.2.2.2.2.2.2.2.2.2.2.2.2.2.2.2.2.2.2.2.2.2.2.2.2.2.1 k1_t144 k1_h72
theorem k1_off577_inb : ∀ (i : grid1.Coords) (v342 : BitVec 32) (v348 : BitVec 32) (k1_hw8 : k1_chk8 i v342 v348) (k1_t144 : Fin (k1_t144_loop i v342 v348).trips), ∀ (k1_h72 : k1_cond72 i v342 v348 = 1#1), ∀ a, (k1_off577 i v342 v348 k1_t144) a + S1x16.size a ≤ S256x128.size a := fun i v342 v348 k1_hw8 k1_t144 k1_h72 => k1_hw8.1.2.2.2.2.2.2.2.2.2.2.2.2.2.2.2.2.2.2.2.2.2.2.2.2.2.2.2.2.1 k1_t144 k1_h72
theorem k1_off578_inb : ∀ (i : grid1.Coords) (v342 : BitVec 32) (v348 : BitVec 32) (k1_hw8 : k1_chk8 i v342 v348) (k1_t144 : Fin (k1_t144_loop i v342 v348).trips), ∀ (k1_h72 : k1_cond72 i v342 v348 = 1#1), ∀ a, (k1_off578 i v342 v348 k1_t144) a + S1x16.size a ≤ S256x128.size a := fun i v342 v348 k1_hw8 k1_t144 k1_h72 => k1_hw8.1.2.2.2.2.2.2.2.2.2.2.2.2.2.2.2.2.2.2.2.2.2.2.2.2.2.2.2.2.2.1 k1_t144 k1_h72
theorem k1_t207_ok : ∀ (i : grid1.Coords) (v342 : BitVec 32) (v348 : BitVec 32) (k1_hw8 : k1_chk8 i v342 v348), ∀ (k1_h104 : k1_cond104 i v342 v348 = 1#1), (k1_t207_loop i v342 v348).OK := fun i v342 v348 k1_hw8 k1_h104 => k1_hw8.1.2.2.2.2.2.2.2.2.2.2.2.2.2.2.2.2.2.2.2.2.2.2.2.2.2.2.2.2.2.2.1 k1_h104
theorem k1_off827_inb : ∀ (i : grid1.Coords) (v342 : BitVec 32) (v348 : BitVec 32) (k1_hw8 : k1_chk8 i v342 v348) (k1_t207 : Fin (k1_t207_loop i v342 v348).trips), ∀ (k1_h104 : k1_cond104 i v342 v348 = 1#1), ∀ a, (k1_off827 i v342 v348 k1_t207) a + S1x16.size a ≤ S256x128.size a := fun i v342 v348 k1_hw8 k1_t207 k1_h104 => k1_hw8.1.2.2.2.2.2.2.2.2.2.2.2.2.2.2.2.2.2.2.2.2.2.2.2.2.2.2.2.2.2.2.2 k1_t207 k1_h104
theorem k1_off828_inb : ∀ (i : grid1.Coords) (v342 : BitVec 32) (v348 : BitVec 32) (k1_hw8 : k1_chk8 i v342 v348) (k1_t207 : Fin (k1_t207_loop i v342 v348).trips), ∀ (k1_h104 : k1_cond104 i v342 v348 = 1#1), ∀ a, (k1_off828 i v342 v348 k1_t207) a + S1x16.size a ≤ S256x128.size a := fun i v342 v348 k1_hw8 k1_t207 k1_h104 => k1_hw8.2.1 k1_t207 k1_h104
theorem k1_off829_inb : ∀ (i : grid1.Coords) (v342 : BitVec 32) (v348 : BitVec 32) (k1_hw8 : k1_chk8 i v342 v348) (k1_t207 : Fin (k1_t207_loop i v342 v348).trips), ∀ (k1_h104 : k1_cond104 i v342 v348 = 1#1), ∀ a, (k1_off829 i v342 v348 k1_t207) a + S1x16.size a ≤ S256x128.size a := fun i v342 v348 k1_hw8 k1_t207 k1_h104 => k1_hw8.2.2.1 k1_t207 k1_h104
theorem k1_off830_inb : ∀ (i : grid1.Coords) (v342 : BitVec 32) (v348 : BitVec 32) (k1_hw8 : k1_chk8 i v342 v348) (k1_t207 : Fin (k1_t207_loop i v342 v348).trips), ∀ (k1_h104 : k1_cond104 i v342 v348 = 1#1), ∀ a, (k1_off830 i v342 v348 k1_t207) a + S1x16.size a ≤ S256x128.size a := fun i v342 v348 k1_hw8 k1_t207 k1_h104 => k1_hw8.2.2.2.1 k1_t207 k1_h104
theorem k1_t208_ok : ∀ (i : grid1.Coords) (v342 : BitVec 32) (v348 : BitVec 32) (k1_hw8 : k1_chk8 i v342 v348), ∀ (k1_h104 : k1_cond104 i v342 v348 = 1#1), (k1_t208_loop i v342 v348).OK := fun i v342 v348 k1_hw8 k1_h104 => k1_hw8.2.2.2.2.1 k1_h104
theorem k1_off831_inb : ∀ (i : grid1.Coords) (v342 : BitVec 32) (v348 : BitVec 32) (k1_hw8 : k1_chk8 i v342 v348) (k1_t208 : Fin (k1_t208_loop i v342 v348).trips), ∀ (k1_h104 : k1_cond104 i v342 v348 = 1#1), ∀ a, (k1_off831 i v342 v348 k1_t208) a + S1x16.size a ≤ S256x128.size a := fun i v342 v348 k1_hw8 k1_t208 k1_h104 => k1_hw8.2.2.2.2.2.1 k1_t208 k1_h104
theorem k1_off832_inb : ∀ (i : grid1.Coords) (v342 : BitVec 32) (v348 : BitVec 32) (k1_hw8 : k1_chk8 i v342 v348) (k1_t208 : Fin (k1_t208_loop i v342 v348).trips), ∀ (k1_h104 : k1_cond104 i v342 v348 = 1#1), ∀ a, (k1_off832 i v342 v348 k1_t208) a + S1x16.size a ≤ S256x128.size a := fun i v342 v348 k1_hw8 k1_t208 k1_h104 => k1_hw8.2.2.2.2.2.2.1 k1_t208 k1_h104
theorem k1_off833_inb : ∀ (i : grid1.Coords) (v342 : BitVec 32) (v348 : BitVec 32) (k1_hw8 : k1_chk8 i v342 v348) (k1_t208 : Fin (k1_t208_loop i v342 v348).trips), ∀ (k1_h104 : k1_cond104 i v342 v348 = 1#1), ∀ a, (k1_off833 i v342 v348 k1_t208) a + S1x16.size a ≤ S256x128.size a := fun i v342 v348 k1_hw8 k1_t208 k1_h104 => k1_hw8.2.2.2.2.2.2.2.1 k1_t208 k1_h104
theorem k1_off834_inb : ∀ (i : grid1.Coords) (v342 : BitVec 32) (v348 : BitVec 32) (k1_hw8 : k1_chk8 i v342 v348) (k1_t208 : Fin (k1_t208_loop i v342 v348).trips), ∀ (k1_h104 : k1_cond104 i v342 v348 = 1#1), ∀ a, (k1_off834 i v342 v348 k1_t208) a + S1x16.size a ≤ S256x128.size a := fun i v342 v348 k1_hw8 k1_t208 k1_h104 => k1_hw8.2.2.2.2.2.2.2.2 k1_t208 k1_h104

@[reducible] def k1_t209_loop (i : grid1.Coords) (v354 : BitVec 32) (v359 : BitVec 32) : Scf.Loop 32 :=
  let c256_i32_1022 : BitVec 32 := 256#32
  let c0_i32_1021 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let c256_i32_1025 : BitVec 32 := 256#32
  let c0_i32_1024 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c768_i32_1023 : BitVec 32 := 768#32
  let v1580 : BitVec 32 := Scalar.subi v362 c768_i32_1023
  let v1581 : BitVec 32 := Scalar.maxsi c0_i32_1024 v1580
  let v1582 : BitVec 32 := Scalar.minsi c256_i32_1025 v1581
  let v1805 : BitVec 32 := Scalar.subi v1582 v1579
  let c1_i32_1196 : BitVec 32 := 1#32
  let v1807 : BitVec 32 := Scalar.divsi v1805 c1_i32_1196
  let v1808 : BitVec 32 := Scalar.muli v1807 c1_i32_1196
  let v1809 : BitVec 32 := Scalar.addi v1579 v1808
  let c1_i32_1197 : BitVec 32 := 1#32
  ⟨v1579, v1809, c1_i32_1197⟩
def k1_cond105 (i : grid1.Coords) (v354 : BitVec 32) (v359 : BitVec 32) : BitVec 1 :=
  let c256_i32_1025 : BitVec 32 := 256#32
  let c0_i32_1024 : BitVec 32 := 0#32
  let c1024_i32_154 : BitVec 32 := 1024#32
  let c0_i32_153 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v360 : BitVec 32 := Scalar.subi v359 v3
  let v361 : BitVec 32 := Scalar.maxsi c0_i32_153 v360
  let v362 : BitVec 32 := Scalar.minsi c1024_i32_154 v361
  let c768_i32_1023 : BitVec 32 := 768#32
  let v1580 : BitVec 32 := Scalar.subi v362 c768_i32_1023
  let v1581 : BitVec 32 := Scalar.maxsi c0_i32_1024 v1580
  let v1582 : BitVec 32 := Scalar.minsi c256_i32_1025 v1581
  let c256_i32_1022 : BitVec 32 := 256#32
  let c0_i32_1021 : BitVec 32 := 0#32
  let c1024_i32_152 : BitVec 32 := 1024#32
  let c0_i32_151 : BitVec 32 := 0#32
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let v1583 : BitVec 1 := Scalar.cmpi .sgt v1582 v1579
  let v1584 : BitVec 32 := Scalar.extui v1583
  let c0_i32_1026 : BitVec 32 := 0#32
  let v1585 : BitVec 1 := Scalar.cmpi .ne v1584 c0_i32_1026
  v1585

def k1_off835 (i : grid1.Coords) (v354 : BitVec 32) (v359 : BitVec 32) (k1_t209 : Fin (k1_t209_loop i v354 v359).trips) : Fin 2 → Nat :=
  let c256_i32_1022 : BitVec 32 := 256#32
  let c0_i32_1021 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let c1_i32_1197 : BitVec 32 := 1#32
  let arg13 : BitVec 32 := Scf.iv v1579 c1_i32_1197 k1_t209
  let v1828 : Index := Scalar.indexCast arg13
  let c0_1207 : Index := 0#32
  ![v1828.toNat, 0]
def k1_off836 (i : grid1.Coords) (v354 : BitVec 32) (v359 : BitVec 32) (k1_t209 : Fin (k1_t209_loop i v354 v359).trips) : Fin 2 → Nat :=
  let c256_i32_1022 : BitVec 32 := 256#32
  let c0_i32_1021 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let c1_i32_1197 : BitVec 32 := 1#32
  let arg13 : BitVec 32 := Scf.iv v1579 c1_i32_1197 k1_t209
  let v1832 : Index := Scalar.indexCast arg13
  let c16_1208 : Index := 16#32
  ![v1832.toNat, 16]
def k1_off837 (i : grid1.Coords) (v354 : BitVec 32) (v359 : BitVec 32) (k1_t209 : Fin (k1_t209_loop i v354 v359).trips) : Fin 2 → Nat :=
  let c256_i32_1022 : BitVec 32 := 256#32
  let c0_i32_1021 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let c1_i32_1197 : BitVec 32 := 1#32
  let arg13 : BitVec 32 := Scf.iv v1579 c1_i32_1197 k1_t209
  let v1836 : Index := Scalar.indexCast arg13
  let c32_1209 : Index := 32#32
  ![v1836.toNat, 32]
def k1_off838 (i : grid1.Coords) (v354 : BitVec 32) (v359 : BitVec 32) (k1_t209 : Fin (k1_t209_loop i v354 v359).trips) : Fin 2 → Nat :=
  let c256_i32_1022 : BitVec 32 := 256#32
  let c0_i32_1021 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let c1_i32_1197 : BitVec 32 := 1#32
  let arg13 : BitVec 32 := Scf.iv v1579 c1_i32_1197 k1_t209
  let v1840 : Index := Scalar.indexCast arg13
  let c48_1210 : Index := 48#32
  ![v1840.toNat, 48]
@[reducible] def k1_t210_loop (i : grid1.Coords) (v354 : BitVec 32) (v359 : BitVec 32) : Scf.Loop 32 :=
  let c256_i32_1022 : BitVec 32 := 256#32
  let c0_i32_1021 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let c256_i32_1025 : BitVec 32 := 256#32
  let c0_i32_1024 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c768_i32_1023 : BitVec 32 := 768#32
  let v1580 : BitVec 32 := Scalar.subi v362 c768_i32_1023
  let v1581 : BitVec 32 := Scalar.maxsi c0_i32_1024 v1580
  let v1582 : BitVec 32 := Scalar.minsi c256_i32_1025 v1581
  let v1805 : BitVec 32 := Scalar.subi v1582 v1579
  let c1_i32_1196 : BitVec 32 := 1#32
  let v1807 : BitVec 32 := Scalar.divsi v1805 c1_i32_1196
  let v1808 : BitVec 32 := Scalar.muli v1807 c1_i32_1196
  let v1809 : BitVec 32 := Scalar.addi v1579 v1808
  let v1806 : BitVec 32 := Scalar.addi v1579 v1805
  let c1_i32_1198 : BitVec 32 := 1#32
  ⟨v1809, v1806, c1_i32_1198⟩
def k1_off839 (i : grid1.Coords) (v354 : BitVec 32) (v359 : BitVec 32) (k1_t210 : Fin (k1_t210_loop i v354 v359).trips) : Fin 2 → Nat :=
  let c256_i32_1022 : BitVec 32 := 256#32
  let c0_i32_1021 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let c256_i32_1025 : BitVec 32 := 256#32
  let c0_i32_1024 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c768_i32_1023 : BitVec 32 := 768#32
  let v1580 : BitVec 32 := Scalar.subi v362 c768_i32_1023
  let v1581 : BitVec 32 := Scalar.maxsi c0_i32_1024 v1580
  let v1582 : BitVec 32 := Scalar.minsi c256_i32_1025 v1581
  let v1805 : BitVec 32 := Scalar.subi v1582 v1579
  let c1_i32_1196 : BitVec 32 := 1#32
  let v1807 : BitVec 32 := Scalar.divsi v1805 c1_i32_1196
  let v1808 : BitVec 32 := Scalar.muli v1807 c1_i32_1196
  let v1809 : BitVec 32 := Scalar.addi v1579 v1808
  let c1_i32_1198 : BitVec 32 := 1#32
  let arg13 : BitVec 32 := Scf.iv v1809 c1_i32_1198 k1_t210
  let v1828 : Index := Scalar.indexCast arg13
  let c0_1207 : Index := 0#32
  ![v1828.toNat, 0]
def k1_off840 (i : grid1.Coords) (v354 : BitVec 32) (v359 : BitVec 32) (k1_t210 : Fin (k1_t210_loop i v354 v359).trips) : Fin 2 → Nat :=
  let c256_i32_1022 : BitVec 32 := 256#32
  let c0_i32_1021 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let c256_i32_1025 : BitVec 32 := 256#32
  let c0_i32_1024 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c768_i32_1023 : BitVec 32 := 768#32
  let v1580 : BitVec 32 := Scalar.subi v362 c768_i32_1023
  let v1581 : BitVec 32 := Scalar.maxsi c0_i32_1024 v1580
  let v1582 : BitVec 32 := Scalar.minsi c256_i32_1025 v1581
  let v1805 : BitVec 32 := Scalar.subi v1582 v1579
  let c1_i32_1196 : BitVec 32 := 1#32
  let v1807 : BitVec 32 := Scalar.divsi v1805 c1_i32_1196
  let v1808 : BitVec 32 := Scalar.muli v1807 c1_i32_1196
  let v1809 : BitVec 32 := Scalar.addi v1579 v1808
  let c1_i32_1198 : BitVec 32 := 1#32
  let arg13 : BitVec 32 := Scf.iv v1809 c1_i32_1198 k1_t210
  let v1832 : Index := Scalar.indexCast arg13
  let c16_1208 : Index := 16#32
  ![v1832.toNat, 16]
def k1_off841 (i : grid1.Coords) (v354 : BitVec 32) (v359 : BitVec 32) (k1_t210 : Fin (k1_t210_loop i v354 v359).trips) : Fin 2 → Nat :=
  let c256_i32_1022 : BitVec 32 := 256#32
  let c0_i32_1021 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let c256_i32_1025 : BitVec 32 := 256#32
  let c0_i32_1024 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c768_i32_1023 : BitVec 32 := 768#32
  let v1580 : BitVec 32 := Scalar.subi v362 c768_i32_1023
  let v1581 : BitVec 32 := Scalar.maxsi c0_i32_1024 v1580
  let v1582 : BitVec 32 := Scalar.minsi c256_i32_1025 v1581
  let v1805 : BitVec 32 := Scalar.subi v1582 v1579
  let c1_i32_1196 : BitVec 32 := 1#32
  let v1807 : BitVec 32 := Scalar.divsi v1805 c1_i32_1196
  let v1808 : BitVec 32 := Scalar.muli v1807 c1_i32_1196
  let v1809 : BitVec 32 := Scalar.addi v1579 v1808
  let c1_i32_1198 : BitVec 32 := 1#32
  let arg13 : BitVec 32 := Scf.iv v1809 c1_i32_1198 k1_t210
  let v1836 : Index := Scalar.indexCast arg13
  let c32_1209 : Index := 32#32
  ![v1836.toNat, 32]
def k1_off842 (i : grid1.Coords) (v354 : BitVec 32) (v359 : BitVec 32) (k1_t210 : Fin (k1_t210_loop i v354 v359).trips) : Fin 2 → Nat :=
  let c256_i32_1022 : BitVec 32 := 256#32
  let c0_i32_1021 : BitVec 32 := 0#32
  let c1024_i32_152 : BitVec 32 := 1024#32
  let c0_i32_151 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v355 : BitVec 32 := Scalar.subi v354 v3
  let v356 : BitVec 32 := Scalar.maxsi c0_i32_151 v355
  let v357 : BitVec 32 := Scalar.minsi c1024_i32_152 v356
  let c768_i32_1020 : BitVec 32 := 768#32
  let v1577 : BitVec 32 := Scalar.subi v357 c768_i32_1020
  let v1578 : BitVec 32 := Scalar.maxsi c0_i32_1021 v1577
  let v1579 : BitVec 32 := Scalar.minsi c256_i32_1022 v1578
  let c256_i32_1025 : BitVec 32 := 256#32
  let c0_i32_1024 : BitVec 32 := 0#32
  let c1024_i32_154 : BitVec 32 := 1024#32
  let c0_i32_153 : BitVec 32 := 0#32
  let v360 : BitVec 32 := Scalar.subi v359 v3
  let v361 : BitVec 32 := Scalar.maxsi c0_i32_153 v360
  let v362 : BitVec 32 := Scalar.minsi c1024_i32_154 v361
  let c768_i32_1023 : BitVec 32 := 768#32
  let v1580 : BitVec 32 := Scalar.subi v362 c768_i32_1023
  let v1581 : BitVec 32 := Scalar.maxsi c0_i32_1024 v1580
  let v1582 : BitVec 32 := Scalar.minsi c256_i32_1025 v1581
  let v1805 : BitVec 32 := Scalar.subi v1582 v1579
  let c1_i32_1196 : BitVec 32 := 1#32
  let v1807 : BitVec 32 := Scalar.divsi v1805 c1_i32_1196
  let v1808 : BitVec 32 := Scalar.muli v1807 c1_i32_1196
  let v1809 : BitVec 32 := Scalar.addi v1579 v1808
  let c1_i32_1198 : BitVec 32 := 1#32
  let arg13 : BitVec 32 := Scf.iv v1809 c1_i32_1198 k1_t210
  let v1840 : Index := Scalar.indexCast arg13
  let c48_1210 : Index := 48#32
  ![v1840.toNat, 48]

def k1_chk9_0 (i : grid1.Coords) (v354 : BitVec 32) (v359 : BitVec 32) : Prop :=
  (∀ (k1_h9 : k1_cond9 i v354 v359 = 1#1), (k1_t17_loop i v354 v359).OK) ∧
  (∀ k1_t17 : Fin (k1_t17_loop i v354 v359).trips, ∀ (k1_h9 : k1_cond9 i v354 v359 = 1#1), ∀ a, (k1_off66 i v354 v359 k1_t17) a + S1x16.size a ≤ S256x128.size a) ∧
  (∀ k1_t17 : Fin (k1_t17_loop i v354 v359).trips, ∀ (k1_h9 : k1_cond9 i v354 v359 = 1#1), ∀ a, (k1_off67 i v354 v359 k1_t17) a + S1x16.size a ≤ S256x128.size a) ∧
  (∀ k1_t17 : Fin (k1_t17_loop i v354 v359).trips, ∀ (k1_h9 : k1_cond9 i v354 v359 = 1#1), ∀ a, (k1_off68 i v354 v359 k1_t17) a + S1x16.size a ≤ S256x128.size a) ∧
  (∀ k1_t17 : Fin (k1_t17_loop i v354 v359).trips, ∀ (k1_h9 : k1_cond9 i v354 v359 = 1#1), ∀ a, (k1_off69 i v354 v359 k1_t17) a + S1x16.size a ≤ S256x128.size a) ∧
  (∀ (k1_h9 : k1_cond9 i v354 v359 = 1#1), (k1_t18_loop i v354 v359).OK) ∧
  (∀ k1_t18 : Fin (k1_t18_loop i v354 v359).trips, ∀ (k1_h9 : k1_cond9 i v354 v359 = 1#1), ∀ a, (k1_off70 i v354 v359 k1_t18) a + S1x16.size a ≤ S256x128.size a) ∧
  (∀ k1_t18 : Fin (k1_t18_loop i v354 v359).trips, ∀ (k1_h9 : k1_cond9 i v354 v359 = 1#1), ∀ a, (k1_off71 i v354 v359 k1_t18) a + S1x16.size a ≤ S256x128.size a) ∧
  (∀ k1_t18 : Fin (k1_t18_loop i v354 v359).trips, ∀ (k1_h9 : k1_cond9 i v354 v359 = 1#1), ∀ a, (k1_off72 i v354 v359 k1_t18) a + S1x16.size a ≤ S256x128.size a) ∧
  (∀ k1_t18 : Fin (k1_t18_loop i v354 v359).trips, ∀ (k1_h9 : k1_cond9 i v354 v359 = 1#1), ∀ a, (k1_off73 i v354 v359 k1_t18) a + S1x16.size a ≤ S256x128.size a) ∧
  (∀ (k1_h41 : k1_cond41 i v354 v359 = 1#1), (k1_t81_loop i v354 v359).OK) ∧
  (∀ k1_t81 : Fin (k1_t81_loop i v354 v359).trips, ∀ (k1_h41 : k1_cond41 i v354 v359 = 1#1), ∀ a, (k1_off323 i v354 v359 k1_t81) a + S1x16.size a ≤ S256x128.size a) ∧
  (∀ k1_t81 : Fin (k1_t81_loop i v354 v359).trips, ∀ (k1_h41 : k1_cond41 i v354 v359 = 1#1), ∀ a, (k1_off324 i v354 v359 k1_t81) a + S1x16.size a ≤ S256x128.size a) ∧
  (∀ k1_t81 : Fin (k1_t81_loop i v354 v359).trips, ∀ (k1_h41 : k1_cond41 i v354 v359 = 1#1), ∀ a, (k1_off325 i v354 v359 k1_t81) a + S1x16.size a ≤ S256x128.size a) ∧
  (∀ k1_t81 : Fin (k1_t81_loop i v354 v359).trips, ∀ (k1_h41 : k1_cond41 i v354 v359 = 1#1), ∀ a, (k1_off326 i v354 v359 k1_t81) a + S1x16.size a ≤ S256x128.size a) ∧
  (∀ (k1_h41 : k1_cond41 i v354 v359 = 1#1), (k1_t82_loop i v354 v359).OK) ∧
  (∀ k1_t82 : Fin (k1_t82_loop i v354 v359).trips, ∀ (k1_h41 : k1_cond41 i v354 v359 = 1#1), ∀ a, (k1_off327 i v354 v359 k1_t82) a + S1x16.size a ≤ S256x128.size a) ∧
  (∀ k1_t82 : Fin (k1_t82_loop i v354 v359).trips, ∀ (k1_h41 : k1_cond41 i v354 v359 = 1#1), ∀ a, (k1_off328 i v354 v359 k1_t82) a + S1x16.size a ≤ S256x128.size a) ∧
  (∀ k1_t82 : Fin (k1_t82_loop i v354 v359).trips, ∀ (k1_h41 : k1_cond41 i v354 v359 = 1#1), ∀ a, (k1_off329 i v354 v359 k1_t82) a + S1x16.size a ≤ S256x128.size a) ∧
  (∀ k1_t82 : Fin (k1_t82_loop i v354 v359).trips, ∀ (k1_h41 : k1_cond41 i v354 v359 = 1#1), ∀ a, (k1_off330 i v354 v359 k1_t82) a + S1x16.size a ≤ S256x128.size a) ∧
  (∀ (k1_h73 : k1_cond73 i v354 v359 = 1#1), (k1_t145_loop i v354 v359).OK) ∧
  (∀ k1_t145 : Fin (k1_t145_loop i v354 v359).trips, ∀ (k1_h73 : k1_cond73 i v354 v359 = 1#1), ∀ a, (k1_off579 i v354 v359 k1_t145) a + S1x16.size a ≤ S256x128.size a) ∧
  (∀ k1_t145 : Fin (k1_t145_loop i v354 v359).trips, ∀ (k1_h73 : k1_cond73 i v354 v359 = 1#1), ∀ a, (k1_off580 i v354 v359 k1_t145) a + S1x16.size a ≤ S256x128.size a) ∧
  (∀ k1_t145 : Fin (k1_t145_loop i v354 v359).trips, ∀ (k1_h73 : k1_cond73 i v354 v359 = 1#1), ∀ a, (k1_off581 i v354 v359 k1_t145) a + S1x16.size a ≤ S256x128.size a) ∧
  (∀ k1_t145 : Fin (k1_t145_loop i v354 v359).trips, ∀ (k1_h73 : k1_cond73 i v354 v359 = 1#1), ∀ a, (k1_off582 i v354 v359 k1_t145) a + S1x16.size a ≤ S256x128.size a) ∧
  (∀ (k1_h73 : k1_cond73 i v354 v359 = 1#1), (k1_t146_loop i v354 v359).OK) ∧
  (∀ k1_t146 : Fin (k1_t146_loop i v354 v359).trips, ∀ (k1_h73 : k1_cond73 i v354 v359 = 1#1), ∀ a, (k1_off583 i v354 v359 k1_t146) a + S1x16.size a ≤ S256x128.size a) ∧
  (∀ k1_t146 : Fin (k1_t146_loop i v354 v359).trips, ∀ (k1_h73 : k1_cond73 i v354 v359 = 1#1), ∀ a, (k1_off584 i v354 v359 k1_t146) a + S1x16.size a ≤ S256x128.size a) ∧
  (∀ k1_t146 : Fin (k1_t146_loop i v354 v359).trips, ∀ (k1_h73 : k1_cond73 i v354 v359 = 1#1), ∀ a, (k1_off585 i v354 v359 k1_t146) a + S1x16.size a ≤ S256x128.size a) ∧
  (∀ k1_t146 : Fin (k1_t146_loop i v354 v359).trips, ∀ (k1_h73 : k1_cond73 i v354 v359 = 1#1), ∀ a, (k1_off586 i v354 v359 k1_t146) a + S1x16.size a ≤ S256x128.size a) ∧
  (∀ (k1_h105 : k1_cond105 i v354 v359 = 1#1), (k1_t209_loop i v354 v359).OK) ∧
  (∀ k1_t209 : Fin (k1_t209_loop i v354 v359).trips, ∀ (k1_h105 : k1_cond105 i v354 v359 = 1#1), ∀ a, (k1_off835 i v354 v359 k1_t209) a + S1x16.size a ≤ S256x128.size a)
def k1_chk9_1 (i : grid1.Coords) (v354 : BitVec 32) (v359 : BitVec 32) : Prop :=
  (∀ k1_t209 : Fin (k1_t209_loop i v354 v359).trips, ∀ (k1_h105 : k1_cond105 i v354 v359 = 1#1), ∀ a, (k1_off836 i v354 v359 k1_t209) a + S1x16.size a ≤ S256x128.size a) ∧
  (∀ k1_t209 : Fin (k1_t209_loop i v354 v359).trips, ∀ (k1_h105 : k1_cond105 i v354 v359 = 1#1), ∀ a, (k1_off837 i v354 v359 k1_t209) a + S1x16.size a ≤ S256x128.size a) ∧
  (∀ k1_t209 : Fin (k1_t209_loop i v354 v359).trips, ∀ (k1_h105 : k1_cond105 i v354 v359 = 1#1), ∀ a, (k1_off838 i v354 v359 k1_t209) a + S1x16.size a ≤ S256x128.size a) ∧
  (∀ (k1_h105 : k1_cond105 i v354 v359 = 1#1), (k1_t210_loop i v354 v359).OK) ∧
  (∀ k1_t210 : Fin (k1_t210_loop i v354 v359).trips, ∀ (k1_h105 : k1_cond105 i v354 v359 = 1#1), ∀ a, (k1_off839 i v354 v359 k1_t210) a + S1x16.size a ≤ S256x128.size a) ∧
  (∀ k1_t210 : Fin (k1_t210_loop i v354 v359).trips, ∀ (k1_h105 : k1_cond105 i v354 v359 = 1#1), ∀ a, (k1_off840 i v354 v359 k1_t210) a + S1x16.size a ≤ S256x128.size a) ∧
  (∀ k1_t210 : Fin (k1_t210_loop i v354 v359).trips, ∀ (k1_h105 : k1_cond105 i v354 v359 = 1#1), ∀ a, (k1_off841 i v354 v359 k1_t210) a + S1x16.size a ≤ S256x128.size a) ∧
  (∀ k1_t210 : Fin (k1_t210_loop i v354 v359).trips, ∀ (k1_h105 : k1_cond105 i v354 v359 = 1#1), ∀ a, (k1_off842 i v354 v359 k1_t210) a + S1x16.size a ≤ S256x128.size a)
def k1_chk9 (i : grid1.Coords) (v354 : BitVec 32) (v359 : BitVec 32) : Prop :=
  k1_chk9_0 i v354 v359 ∧
  k1_chk9_1 i v354 v359
theorem k1_t17_ok : ∀ (i : grid1.Coords) (v354 : BitVec 32) (v359 : BitVec 32) (k1_hw9 : k1_chk9 i v354 v359), ∀ (k1_h9 : k1_cond9 i v354 v359 = 1#1), (k1_t17_loop i v354 v359).OK := fun i v354 v359 k1_hw9 k1_h9 => k1_hw9.1.1 k1_h9
theorem k1_off66_inb : ∀ (i : grid1.Coords) (v354 : BitVec 32) (v359 : BitVec 32) (k1_hw9 : k1_chk9 i v354 v359) (k1_t17 : Fin (k1_t17_loop i v354 v359).trips), ∀ (k1_h9 : k1_cond9 i v354 v359 = 1#1), ∀ a, (k1_off66 i v354 v359 k1_t17) a + S1x16.size a ≤ S256x128.size a := fun i v354 v359 k1_hw9 k1_t17 k1_h9 => k1_hw9.1.2.1 k1_t17 k1_h9
theorem k1_off67_inb : ∀ (i : grid1.Coords) (v354 : BitVec 32) (v359 : BitVec 32) (k1_hw9 : k1_chk9 i v354 v359) (k1_t17 : Fin (k1_t17_loop i v354 v359).trips), ∀ (k1_h9 : k1_cond9 i v354 v359 = 1#1), ∀ a, (k1_off67 i v354 v359 k1_t17) a + S1x16.size a ≤ S256x128.size a := fun i v354 v359 k1_hw9 k1_t17 k1_h9 => k1_hw9.1.2.2.1 k1_t17 k1_h9
theorem k1_off68_inb : ∀ (i : grid1.Coords) (v354 : BitVec 32) (v359 : BitVec 32) (k1_hw9 : k1_chk9 i v354 v359) (k1_t17 : Fin (k1_t17_loop i v354 v359).trips), ∀ (k1_h9 : k1_cond9 i v354 v359 = 1#1), ∀ a, (k1_off68 i v354 v359 k1_t17) a + S1x16.size a ≤ S256x128.size a := fun i v354 v359 k1_hw9 k1_t17 k1_h9 => k1_hw9.1.2.2.2.1 k1_t17 k1_h9
theorem k1_off69_inb : ∀ (i : grid1.Coords) (v354 : BitVec 32) (v359 : BitVec 32) (k1_hw9 : k1_chk9 i v354 v359) (k1_t17 : Fin (k1_t17_loop i v354 v359).trips), ∀ (k1_h9 : k1_cond9 i v354 v359 = 1#1), ∀ a, (k1_off69 i v354 v359 k1_t17) a + S1x16.size a ≤ S256x128.size a := fun i v354 v359 k1_hw9 k1_t17 k1_h9 => k1_hw9.1.2.2.2.2.1 k1_t17 k1_h9
theorem k1_t18_ok : ∀ (i : grid1.Coords) (v354 : BitVec 32) (v359 : BitVec 32) (k1_hw9 : k1_chk9 i v354 v359), ∀ (k1_h9 : k1_cond9 i v354 v359 = 1#1), (k1_t18_loop i v354 v359).OK := fun i v354 v359 k1_hw9 k1_h9 => k1_hw9.1.2.2.2.2.2.1 k1_h9
theorem k1_off70_inb : ∀ (i : grid1.Coords) (v354 : BitVec 32) (v359 : BitVec 32) (k1_hw9 : k1_chk9 i v354 v359) (k1_t18 : Fin (k1_t18_loop i v354 v359).trips), ∀ (k1_h9 : k1_cond9 i v354 v359 = 1#1), ∀ a, (k1_off70 i v354 v359 k1_t18) a + S1x16.size a ≤ S256x128.size a := fun i v354 v359 k1_hw9 k1_t18 k1_h9 => k1_hw9.1.2.2.2.2.2.2.1 k1_t18 k1_h9
theorem k1_off71_inb : ∀ (i : grid1.Coords) (v354 : BitVec 32) (v359 : BitVec 32) (k1_hw9 : k1_chk9 i v354 v359) (k1_t18 : Fin (k1_t18_loop i v354 v359).trips), ∀ (k1_h9 : k1_cond9 i v354 v359 = 1#1), ∀ a, (k1_off71 i v354 v359 k1_t18) a + S1x16.size a ≤ S256x128.size a := fun i v354 v359 k1_hw9 k1_t18 k1_h9 => k1_hw9.1.2.2.2.2.2.2.2.1 k1_t18 k1_h9
theorem k1_off72_inb : ∀ (i : grid1.Coords) (v354 : BitVec 32) (v359 : BitVec 32) (k1_hw9 : k1_chk9 i v354 v359) (k1_t18 : Fin (k1_t18_loop i v354 v359).trips), ∀ (k1_h9 : k1_cond9 i v354 v359 = 1#1), ∀ a, (k1_off72 i v354 v359 k1_t18) a + S1x16.size a ≤ S256x128.size a := fun i v354 v359 k1_hw9 k1_t18 k1_h9 => k1_hw9.1.2.2.2.2.2.2.2.2.1 k1_t18 k1_h9
theorem k1_off73_inb : ∀ (i : grid1.Coords) (v354 : BitVec 32) (v359 : BitVec 32) (k1_hw9 : k1_chk9 i v354 v359) (k1_t18 : Fin (k1_t18_loop i v354 v359).trips), ∀ (k1_h9 : k1_cond9 i v354 v359 = 1#1), ∀ a, (k1_off73 i v354 v359 k1_t18) a + S1x16.size a ≤ S256x128.size a := fun i v354 v359 k1_hw9 k1_t18 k1_h9 => k1_hw9.1.2.2.2.2.2.2.2.2.2.1 k1_t18 k1_h9
theorem k1_t81_ok : ∀ (i : grid1.Coords) (v354 : BitVec 32) (v359 : BitVec 32) (k1_hw9 : k1_chk9 i v354 v359), ∀ (k1_h41 : k1_cond41 i v354 v359 = 1#1), (k1_t81_loop i v354 v359).OK := fun i v354 v359 k1_hw9 k1_h41 => k1_hw9.1.2.2.2.2.2.2.2.2.2.2.1 k1_h41
theorem k1_off323_inb : ∀ (i : grid1.Coords) (v354 : BitVec 32) (v359 : BitVec 32) (k1_hw9 : k1_chk9 i v354 v359) (k1_t81 : Fin (k1_t81_loop i v354 v359).trips), ∀ (k1_h41 : k1_cond41 i v354 v359 = 1#1), ∀ a, (k1_off323 i v354 v359 k1_t81) a + S1x16.size a ≤ S256x128.size a := fun i v354 v359 k1_hw9 k1_t81 k1_h41 => k1_hw9.1.2.2.2.2.2.2.2.2.2.2.2.1 k1_t81 k1_h41
theorem k1_off324_inb : ∀ (i : grid1.Coords) (v354 : BitVec 32) (v359 : BitVec 32) (k1_hw9 : k1_chk9 i v354 v359) (k1_t81 : Fin (k1_t81_loop i v354 v359).trips), ∀ (k1_h41 : k1_cond41 i v354 v359 = 1#1), ∀ a, (k1_off324 i v354 v359 k1_t81) a + S1x16.size a ≤ S256x128.size a := fun i v354 v359 k1_hw9 k1_t81 k1_h41 => k1_hw9.1.2.2.2.2.2.2.2.2.2.2.2.2.1 k1_t81 k1_h41
theorem k1_off325_inb : ∀ (i : grid1.Coords) (v354 : BitVec 32) (v359 : BitVec 32) (k1_hw9 : k1_chk9 i v354 v359) (k1_t81 : Fin (k1_t81_loop i v354 v359).trips), ∀ (k1_h41 : k1_cond41 i v354 v359 = 1#1), ∀ a, (k1_off325 i v354 v359 k1_t81) a + S1x16.size a ≤ S256x128.size a := fun i v354 v359 k1_hw9 k1_t81 k1_h41 => k1_hw9.1.2.2.2.2.2.2.2.2.2.2.2.2.2.1 k1_t81 k1_h41
theorem k1_off326_inb : ∀ (i : grid1.Coords) (v354 : BitVec 32) (v359 : BitVec 32) (k1_hw9 : k1_chk9 i v354 v359) (k1_t81 : Fin (k1_t81_loop i v354 v359).trips), ∀ (k1_h41 : k1_cond41 i v354 v359 = 1#1), ∀ a, (k1_off326 i v354 v359 k1_t81) a + S1x16.size a ≤ S256x128.size a := fun i v354 v359 k1_hw9 k1_t81 k1_h41 => k1_hw9.1.2.2.2.2.2.2.2.2.2.2.2.2.2.2.1 k1_t81 k1_h41
theorem k1_t82_ok : ∀ (i : grid1.Coords) (v354 : BitVec 32) (v359 : BitVec 32) (k1_hw9 : k1_chk9 i v354 v359), ∀ (k1_h41 : k1_cond41 i v354 v359 = 1#1), (k1_t82_loop i v354 v359).OK := fun i v354 v359 k1_hw9 k1_h41 => k1_hw9.1.2.2.2.2.2.2.2.2.2.2.2.2.2.2.2.1 k1_h41
theorem k1_off327_inb : ∀ (i : grid1.Coords) (v354 : BitVec 32) (v359 : BitVec 32) (k1_hw9 : k1_chk9 i v354 v359) (k1_t82 : Fin (k1_t82_loop i v354 v359).trips), ∀ (k1_h41 : k1_cond41 i v354 v359 = 1#1), ∀ a, (k1_off327 i v354 v359 k1_t82) a + S1x16.size a ≤ S256x128.size a := fun i v354 v359 k1_hw9 k1_t82 k1_h41 => k1_hw9.1.2.2.2.2.2.2.2.2.2.2.2.2.2.2.2.2.1 k1_t82 k1_h41
theorem k1_off328_inb : ∀ (i : grid1.Coords) (v354 : BitVec 32) (v359 : BitVec 32) (k1_hw9 : k1_chk9 i v354 v359) (k1_t82 : Fin (k1_t82_loop i v354 v359).trips), ∀ (k1_h41 : k1_cond41 i v354 v359 = 1#1), ∀ a, (k1_off328 i v354 v359 k1_t82) a + S1x16.size a ≤ S256x128.size a := fun i v354 v359 k1_hw9 k1_t82 k1_h41 => k1_hw9.1.2.2.2.2.2.2.2.2.2.2.2.2.2.2.2.2.2.1 k1_t82 k1_h41
theorem k1_off329_inb : ∀ (i : grid1.Coords) (v354 : BitVec 32) (v359 : BitVec 32) (k1_hw9 : k1_chk9 i v354 v359) (k1_t82 : Fin (k1_t82_loop i v354 v359).trips), ∀ (k1_h41 : k1_cond41 i v354 v359 = 1#1), ∀ a, (k1_off329 i v354 v359 k1_t82) a + S1x16.size a ≤ S256x128.size a := fun i v354 v359 k1_hw9 k1_t82 k1_h41 => k1_hw9.1.2.2.2.2.2.2.2.2.2.2.2.2.2.2.2.2.2.2.1 k1_t82 k1_h41
theorem k1_off330_inb : ∀ (i : grid1.Coords) (v354 : BitVec 32) (v359 : BitVec 32) (k1_hw9 : k1_chk9 i v354 v359) (k1_t82 : Fin (k1_t82_loop i v354 v359).trips), ∀ (k1_h41 : k1_cond41 i v354 v359 = 1#1), ∀ a, (k1_off330 i v354 v359 k1_t82) a + S1x16.size a ≤ S256x128.size a := fun i v354 v359 k1_hw9 k1_t82 k1_h41 => k1_hw9.1.2.2.2.2.2.2.2.2.2.2.2.2.2.2.2.2.2.2.2.1 k1_t82 k1_h41
theorem k1_t145_ok : ∀ (i : grid1.Coords) (v354 : BitVec 32) (v359 : BitVec 32) (k1_hw9 : k1_chk9 i v354 v359), ∀ (k1_h73 : k1_cond73 i v354 v359 = 1#1), (k1_t145_loop i v354 v359).OK := fun i v354 v359 k1_hw9 k1_h73 => k1_hw9.1.2.2.2.2.2.2.2.2.2.2.2.2.2.2.2.2.2.2.2.2.1 k1_h73
theorem k1_off579_inb : ∀ (i : grid1.Coords) (v354 : BitVec 32) (v359 : BitVec 32) (k1_hw9 : k1_chk9 i v354 v359) (k1_t145 : Fin (k1_t145_loop i v354 v359).trips), ∀ (k1_h73 : k1_cond73 i v354 v359 = 1#1), ∀ a, (k1_off579 i v354 v359 k1_t145) a + S1x16.size a ≤ S256x128.size a := fun i v354 v359 k1_hw9 k1_t145 k1_h73 => k1_hw9.1.2.2.2.2.2.2.2.2.2.2.2.2.2.2.2.2.2.2.2.2.2.1 k1_t145 k1_h73
theorem k1_off580_inb : ∀ (i : grid1.Coords) (v354 : BitVec 32) (v359 : BitVec 32) (k1_hw9 : k1_chk9 i v354 v359) (k1_t145 : Fin (k1_t145_loop i v354 v359).trips), ∀ (k1_h73 : k1_cond73 i v354 v359 = 1#1), ∀ a, (k1_off580 i v354 v359 k1_t145) a + S1x16.size a ≤ S256x128.size a := fun i v354 v359 k1_hw9 k1_t145 k1_h73 => k1_hw9.1.2.2.2.2.2.2.2.2.2.2.2.2.2.2.2.2.2.2.2.2.2.2.1 k1_t145 k1_h73
theorem k1_off581_inb : ∀ (i : grid1.Coords) (v354 : BitVec 32) (v359 : BitVec 32) (k1_hw9 : k1_chk9 i v354 v359) (k1_t145 : Fin (k1_t145_loop i v354 v359).trips), ∀ (k1_h73 : k1_cond73 i v354 v359 = 1#1), ∀ a, (k1_off581 i v354 v359 k1_t145) a + S1x16.size a ≤ S256x128.size a := fun i v354 v359 k1_hw9 k1_t145 k1_h73 => k1_hw9.1.2.2.2.2.2.2.2.2.2.2.2.2.2.2.2.2.2.2.2.2.2.2.2.1 k1_t145 k1_h73
theorem k1_off582_inb : ∀ (i : grid1.Coords) (v354 : BitVec 32) (v359 : BitVec 32) (k1_hw9 : k1_chk9 i v354 v359) (k1_t145 : Fin (k1_t145_loop i v354 v359).trips), ∀ (k1_h73 : k1_cond73 i v354 v359 = 1#1), ∀ a, (k1_off582 i v354 v359 k1_t145) a + S1x16.size a ≤ S256x128.size a := fun i v354 v359 k1_hw9 k1_t145 k1_h73 => k1_hw9.1.2.2.2.2.2.2.2.2.2.2.2.2.2.2.2.2.2.2.2.2.2.2.2.2.1 k1_t145 k1_h73
theorem k1_t146_ok : ∀ (i : grid1.Coords) (v354 : BitVec 32) (v359 : BitVec 32) (k1_hw9 : k1_chk9 i v354 v359), ∀ (k1_h73 : k1_cond73 i v354 v359 = 1#1), (k1_t146_loop i v354 v359).OK := fun i v354 v359 k1_hw9 k1_h73 => k1_hw9.1.2.2.2.2.2.2.2.2.2.2.2.2.2.2.2.2.2.2.2.2.2.2.2.2.2.1 k1_h73
theorem k1_off583_inb : ∀ (i : grid1.Coords) (v354 : BitVec 32) (v359 : BitVec 32) (k1_hw9 : k1_chk9 i v354 v359) (k1_t146 : Fin (k1_t146_loop i v354 v359).trips), ∀ (k1_h73 : k1_cond73 i v354 v359 = 1#1), ∀ a, (k1_off583 i v354 v359 k1_t146) a + S1x16.size a ≤ S256x128.size a := fun i v354 v359 k1_hw9 k1_t146 k1_h73 => k1_hw9.1.2.2.2.2.2.2.2.2.2.2.2.2.2.2.2.2.2.2.2.2.2.2.2.2.2.2.1 k1_t146 k1_h73
theorem k1_off584_inb : ∀ (i : grid1.Coords) (v354 : BitVec 32) (v359 : BitVec 32) (k1_hw9 : k1_chk9 i v354 v359) (k1_t146 : Fin (k1_t146_loop i v354 v359).trips), ∀ (k1_h73 : k1_cond73 i v354 v359 = 1#1), ∀ a, (k1_off584 i v354 v359 k1_t146) a + S1x16.size a ≤ S256x128.size a := fun i v354 v359 k1_hw9 k1_t146 k1_h73 => k1_hw9.1.2.2.2.2.2.2.2.2.2.2.2.2.2.2.2.2.2.2.2.2.2.2.2.2.2.2.2.1 k1_t146 k1_h73
theorem k1_off585_inb : ∀ (i : grid1.Coords) (v354 : BitVec 32) (v359 : BitVec 32) (k1_hw9 : k1_chk9 i v354 v359) (k1_t146 : Fin (k1_t146_loop i v354 v359).trips), ∀ (k1_h73 : k1_cond73 i v354 v359 = 1#1), ∀ a, (k1_off585 i v354 v359 k1_t146) a + S1x16.size a ≤ S256x128.size a := fun i v354 v359 k1_hw9 k1_t146 k1_h73 => k1_hw9.1.2.2.2.2.2.2.2.2.2.2.2.2.2.2.2.2.2.2.2.2.2.2.2.2.2.2.2.2.1 k1_t146 k1_h73
theorem k1_off586_inb : ∀ (i : grid1.Coords) (v354 : BitVec 32) (v359 : BitVec 32) (k1_hw9 : k1_chk9 i v354 v359) (k1_t146 : Fin (k1_t146_loop i v354 v359).trips), ∀ (k1_h73 : k1_cond73 i v354 v359 = 1#1), ∀ a, (k1_off586 i v354 v359 k1_t146) a + S1x16.size a ≤ S256x128.size a := fun i v354 v359 k1_hw9 k1_t146 k1_h73 => k1_hw9.1.2.2.2.2.2.2.2.2.2.2.2.2.2.2.2.2.2.2.2.2.2.2.2.2.2.2.2.2.2.1 k1_t146 k1_h73
theorem k1_t209_ok : ∀ (i : grid1.Coords) (v354 : BitVec 32) (v359 : BitVec 32) (k1_hw9 : k1_chk9 i v354 v359), ∀ (k1_h105 : k1_cond105 i v354 v359 = 1#1), (k1_t209_loop i v354 v359).OK := fun i v354 v359 k1_hw9 k1_h105 => k1_hw9.1.2.2.2.2.2.2.2.2.2.2.2.2.2.2.2.2.2.2.2.2.2.2.2.2.2.2.2.2.2.2.1 k1_h105
theorem k1_off835_inb : ∀ (i : grid1.Coords) (v354 : BitVec 32) (v359 : BitVec 32) (k1_hw9 : k1_chk9 i v354 v359) (k1_t209 : Fin (k1_t209_loop i v354 v359).trips), ∀ (k1_h105 : k1_cond105 i v354 v359 = 1#1), ∀ a, (k1_off835 i v354 v359 k1_t209) a + S1x16.size a ≤ S256x128.size a := fun i v354 v359 k1_hw9 k1_t209 k1_h105 => k1_hw9.1.2.2.2.2.2.2.2.2.2.2.2.2.2.2.2.2.2.2.2.2.2.2.2.2.2.2.2.2.2.2.2 k1_t209 k1_h105
theorem k1_off836_inb : ∀ (i : grid1.Coords) (v354 : BitVec 32) (v359 : BitVec 32) (k1_hw9 : k1_chk9 i v354 v359) (k1_t209 : Fin (k1_t209_loop i v354 v359).trips), ∀ (k1_h105 : k1_cond105 i v354 v359 = 1#1), ∀ a, (k1_off836 i v354 v359 k1_t209) a + S1x16.size a ≤ S256x128.size a := fun i v354 v359 k1_hw9 k1_t209 k1_h105 => k1_hw9.2.1 k1_t209 k1_h105
theorem k1_off837_inb : ∀ (i : grid1.Coords) (v354 : BitVec 32) (v359 : BitVec 32) (k1_hw9 : k1_chk9 i v354 v359) (k1_t209 : Fin (k1_t209_loop i v354 v359).trips), ∀ (k1_h105 : k1_cond105 i v354 v359 = 1#1), ∀ a, (k1_off837 i v354 v359 k1_t209) a + S1x16.size a ≤ S256x128.size a := fun i v354 v359 k1_hw9 k1_t209 k1_h105 => k1_hw9.2.2.1 k1_t209 k1_h105
theorem k1_off838_inb : ∀ (i : grid1.Coords) (v354 : BitVec 32) (v359 : BitVec 32) (k1_hw9 : k1_chk9 i v354 v359) (k1_t209 : Fin (k1_t209_loop i v354 v359).trips), ∀ (k1_h105 : k1_cond105 i v354 v359 = 1#1), ∀ a, (k1_off838 i v354 v359 k1_t209) a + S1x16.size a ≤ S256x128.size a := fun i v354 v359 k1_hw9 k1_t209 k1_h105 => k1_hw9.2.2.2.1 k1_t209 k1_h105
theorem k1_t210_ok : ∀ (i : grid1.Coords) (v354 : BitVec 32) (v359 : BitVec 32) (k1_hw9 : k1_chk9 i v354 v359), ∀ (k1_h105 : k1_cond105 i v354 v359 = 1#1), (k1_t210_loop i v354 v359).OK := fun i v354 v359 k1_hw9 k1_h105 => k1_hw9.2.2.2.2.1 k1_h105
theorem k1_off839_inb : ∀ (i : grid1.Coords) (v354 : BitVec 32) (v359 : BitVec 32) (k1_hw9 : k1_chk9 i v354 v359) (k1_t210 : Fin (k1_t210_loop i v354 v359).trips), ∀ (k1_h105 : k1_cond105 i v354 v359 = 1#1), ∀ a, (k1_off839 i v354 v359 k1_t210) a + S1x16.size a ≤ S256x128.size a := fun i v354 v359 k1_hw9 k1_t210 k1_h105 => k1_hw9.2.2.2.2.2.1 k1_t210 k1_h105
theorem k1_off840_inb : ∀ (i : grid1.Coords) (v354 : BitVec 32) (v359 : BitVec 32) (k1_hw9 : k1_chk9 i v354 v359) (k1_t210 : Fin (k1_t210_loop i v354 v359).trips), ∀ (k1_h105 : k1_cond105 i v354 v359 = 1#1), ∀ a, (k1_off840 i v354 v359 k1_t210) a + S1x16.size a ≤ S256x128.size a := fun i v354 v359 k1_hw9 k1_t210 k1_h105 => k1_hw9.2.2.2.2.2.2.1 k1_t210 k1_h105
theorem k1_off841_inb : ∀ (i : grid1.Coords) (v354 : BitVec 32) (v359 : BitVec 32) (k1_hw9 : k1_chk9 i v354 v359) (k1_t210 : Fin (k1_t210_loop i v354 v359).trips), ∀ (k1_h105 : k1_cond105 i v354 v359 = 1#1), ∀ a, (k1_off841 i v354 v359 k1_t210) a + S1x16.size a ≤ S256x128.size a := fun i v354 v359 k1_hw9 k1_t210 k1_h105 => k1_hw9.2.2.2.2.2.2.2.1 k1_t210 k1_h105
theorem k1_off842_inb : ∀ (i : grid1.Coords) (v354 : BitVec 32) (v359 : BitVec 32) (k1_hw9 : k1_chk9 i v354 v359) (k1_t210 : Fin (k1_t210_loop i v354 v359).trips), ∀ (k1_h105 : k1_cond105 i v354 v359 = 1#1), ∀ a, (k1_off842 i v354 v359 k1_t210) a + S1x16.size a ≤ S256x128.size a := fun i v354 v359 k1_hw9 k1_t210 k1_h105 => k1_hw9.2.2.2.2.2.2.2.2 k1_t210 k1_h105

@[reducible] def k1_t211_loop (i : grid1.Coords) (v364 : BitVec 32) (v370 : BitVec 32) : Scf.Loop 32 :=
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let c256_i32_1032 : BitVec 32 := 256#32
  let c0_i32_1031 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c768_i32_1030 : BitVec 32 := 768#32
  let v1589 : BitVec 32 := Scalar.subi v374 c768_i32_1030
  let v1590 : BitVec 32 := Scalar.maxsi c0_i32_1031 v1589
  let v1591 : BitVec 32 := Scalar.minsi c256_i32_1032 v1590
  let v1805 : BitVec 32 := Scalar.subi v1591 v1588
  let c1_i32_1196 : BitVec 32 := 1#32
  let v1807 : BitVec 32 := Scalar.divsi v1805 c1_i32_1196
  let v1808 : BitVec 32 := Scalar.muli v1807 c1_i32_1196
  let v1809 : BitVec 32 := Scalar.addi v1588 v1808
  let c1_i32_1197 : BitVec 32 := 1#32
  ⟨v1588, v1809, c1_i32_1197⟩
def k1_cond106 (i : grid1.Coords) (v364 : BitVec 32) (v370 : BitVec 32) : BitVec 1 :=
  let c256_i32_1032 : BitVec 32 := 256#32
  let c0_i32_1031 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v372 : BitVec 32 := Scalar.subi v371 v3
  let v373 : BitVec 32 := Scalar.maxsi c0_i32_159 v372
  let v374 : BitVec 32 := Scalar.minsi c1024_i32_160 v373
  let c768_i32_1030 : BitVec 32 := 768#32
  let v1589 : BitVec 32 := Scalar.subi v374 c768_i32_1030
  let v1590 : BitVec 32 := Scalar.maxsi c0_i32_1031 v1589
  let v1591 : BitVec 32 := Scalar.minsi c256_i32_1032 v1590
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let v1592 : BitVec 1 := Scalar.cmpi .sgt v1591 v1588
  let v1593 : BitVec 32 := Scalar.extui v1592
  let c0_i32_1033 : BitVec 32 := 0#32
  let v1594 : BitVec 1 := Scalar.cmpi .ne v1593 c0_i32_1033
  v1594

def k1_off843 (i : grid1.Coords) (v364 : BitVec 32) (v370 : BitVec 32) (k1_t211 : Fin (k1_t211_loop i v364 v370).trips) : Fin 2 → Nat :=
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let c1_i32_1197 : BitVec 32 := 1#32
  let arg13 : BitVec 32 := Scf.iv v1588 c1_i32_1197 k1_t211
  let v1828 : Index := Scalar.indexCast arg13
  let c64 : Index := 64#32
  ![v1828.toNat, 64]
def k1_off844 (i : grid1.Coords) (v364 : BitVec 32) (v370 : BitVec 32) (k1_t211 : Fin (k1_t211_loop i v364 v370).trips) : Fin 2 → Nat :=
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let c1_i32_1197 : BitVec 32 := 1#32
  let arg13 : BitVec 32 := Scf.iv v1588 c1_i32_1197 k1_t211
  let v1832 : Index := Scalar.indexCast arg13
  let c80 : Index := 80#32
  ![v1832.toNat, 80]
def k1_off845 (i : grid1.Coords) (v364 : BitVec 32) (v370 : BitVec 32) (k1_t211 : Fin (k1_t211_loop i v364 v370).trips) : Fin 2 → Nat :=
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let c1_i32_1197 : BitVec 32 := 1#32
  let arg13 : BitVec 32 := Scf.iv v1588 c1_i32_1197 k1_t211
  let v1836 : Index := Scalar.indexCast arg13
  let c96 : Index := 96#32
  ![v1836.toNat, 96]
def k1_off846 (i : grid1.Coords) (v364 : BitVec 32) (v370 : BitVec 32) (k1_t211 : Fin (k1_t211_loop i v364 v370).trips) : Fin 2 → Nat :=
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let c1_i32_1197 : BitVec 32 := 1#32
  let arg13 : BitVec 32 := Scf.iv v1588 c1_i32_1197 k1_t211
  let v1840 : Index := Scalar.indexCast arg13
  let c112 : Index := 112#32
  ![v1840.toNat, 112]
@[reducible] def k1_t212_loop (i : grid1.Coords) (v364 : BitVec 32) (v370 : BitVec 32) : Scf.Loop 32 :=
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let c256_i32_1032 : BitVec 32 := 256#32
  let c0_i32_1031 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c768_i32_1030 : BitVec 32 := 768#32
  let v1589 : BitVec 32 := Scalar.subi v374 c768_i32_1030
  let v1590 : BitVec 32 := Scalar.maxsi c0_i32_1031 v1589
  let v1591 : BitVec 32 := Scalar.minsi c256_i32_1032 v1590
  let v1805 : BitVec 32 := Scalar.subi v1591 v1588
  let c1_i32_1196 : BitVec 32 := 1#32
  let v1807 : BitVec 32 := Scalar.divsi v1805 c1_i32_1196
  let v1808 : BitVec 32 := Scalar.muli v1807 c1_i32_1196
  let v1809 : BitVec 32 := Scalar.addi v1588 v1808
  let v1806 : BitVec 32 := Scalar.addi v1588 v1805
  let c1_i32_1198 : BitVec 32 := 1#32
  ⟨v1809, v1806, c1_i32_1198⟩
def k1_off847 (i : grid1.Coords) (v364 : BitVec 32) (v370 : BitVec 32) (k1_t212 : Fin (k1_t212_loop i v364 v370).trips) : Fin 2 → Nat :=
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let c256_i32_1032 : BitVec 32 := 256#32
  let c0_i32_1031 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c768_i32_1030 : BitVec 32 := 768#32
  let v1589 : BitVec 32 := Scalar.subi v374 c768_i32_1030
  let v1590 : BitVec 32 := Scalar.maxsi c0_i32_1031 v1589
  let v1591 : BitVec 32 := Scalar.minsi c256_i32_1032 v1590
  let v1805 : BitVec 32 := Scalar.subi v1591 v1588
  let c1_i32_1196 : BitVec 32 := 1#32
  let v1807 : BitVec 32 := Scalar.divsi v1805 c1_i32_1196
  let v1808 : BitVec 32 := Scalar.muli v1807 c1_i32_1196
  let v1809 : BitVec 32 := Scalar.addi v1588 v1808
  let c1_i32_1198 : BitVec 32 := 1#32
  let arg13 : BitVec 32 := Scf.iv v1809 c1_i32_1198 k1_t212
  let v1828 : Index := Scalar.indexCast arg13
  let c64 : Index := 64#32
  ![v1828.toNat, 64]
def k1_off848 (i : grid1.Coords) (v364 : BitVec 32) (v370 : BitVec 32) (k1_t212 : Fin (k1_t212_loop i v364 v370).trips) : Fin 2 → Nat :=
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let c256_i32_1032 : BitVec 32 := 256#32
  let c0_i32_1031 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c768_i32_1030 : BitVec 32 := 768#32
  let v1589 : BitVec 32 := Scalar.subi v374 c768_i32_1030
  let v1590 : BitVec 32 := Scalar.maxsi c0_i32_1031 v1589
  let v1591 : BitVec 32 := Scalar.minsi c256_i32_1032 v1590
  let v1805 : BitVec 32 := Scalar.subi v1591 v1588
  let c1_i32_1196 : BitVec 32 := 1#32
  let v1807 : BitVec 32 := Scalar.divsi v1805 c1_i32_1196
  let v1808 : BitVec 32 := Scalar.muli v1807 c1_i32_1196
  let v1809 : BitVec 32 := Scalar.addi v1588 v1808
  let c1_i32_1198 : BitVec 32 := 1#32
  let arg13 : BitVec 32 := Scf.iv v1809 c1_i32_1198 k1_t212
  let v1832 : Index := Scalar.indexCast arg13
  let c80 : Index := 80#32
  ![v1832.toNat, 80]
def k1_off849 (i : grid1.Coords) (v364 : BitVec 32) (v370 : BitVec 32) (k1_t212 : Fin (k1_t212_loop i v364 v370).trips) : Fin 2 → Nat :=
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let c256_i32_1032 : BitVec 32 := 256#32
  let c0_i32_1031 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c768_i32_1030 : BitVec 32 := 768#32
  let v1589 : BitVec 32 := Scalar.subi v374 c768_i32_1030
  let v1590 : BitVec 32 := Scalar.maxsi c0_i32_1031 v1589
  let v1591 : BitVec 32 := Scalar.minsi c256_i32_1032 v1590
  let v1805 : BitVec 32 := Scalar.subi v1591 v1588
  let c1_i32_1196 : BitVec 32 := 1#32
  let v1807 : BitVec 32 := Scalar.divsi v1805 c1_i32_1196
  let v1808 : BitVec 32 := Scalar.muli v1807 c1_i32_1196
  let v1809 : BitVec 32 := Scalar.addi v1588 v1808
  let c1_i32_1198 : BitVec 32 := 1#32
  let arg13 : BitVec 32 := Scf.iv v1809 c1_i32_1198 k1_t212
  let v1836 : Index := Scalar.indexCast arg13
  let c96 : Index := 96#32
  ![v1836.toNat, 96]
def k1_off850 (i : grid1.Coords) (v364 : BitVec 32) (v370 : BitVec 32) (k1_t212 : Fin (k1_t212_loop i v364 v370).trips) : Fin 2 → Nat :=
  let c256_i32_1029 : BitVec 32 := 256#32
  let c0_i32_1028 : BitVec 32 := 0#32
  let c1024_i32_157 : BitVec 32 := 1024#32
  let c0_i32_156 : BitVec 32 := 0#32
  let c65536_i32_155 : BitVec 32 := 65536#32
  let v365 : BitVec 32 := Scalar.subi v364 c65536_i32_155
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v366 : BitVec 32 := Scalar.subi v365 v3
  let v367 : BitVec 32 := Scalar.maxsi c0_i32_156 v366
  let v368 : BitVec 32 := Scalar.minsi c1024_i32_157 v367
  let c768_i32_1027 : BitVec 32 := 768#32
  let v1586 : BitVec 32 := Scalar.subi v368 c768_i32_1027
  let v1587 : BitVec 32 := Scalar.maxsi c0_i32_1028 v1586
  let v1588 : BitVec 32 := Scalar.minsi c256_i32_1029 v1587
  let c256_i32_1032 : BitVec 32 := 256#32
  let c0_i32_1031 : BitVec 32 := 0#32
  let c1024_i32_160 : BitVec 32 := 1024#32
  let c0_i32_159 : BitVec 32 := 0#32
  let c65536_i32_158 : BitVec 32 := 65536#32
  let v371 : BitVec 32 := Scalar.subi v370 c65536_i32_158
  let v372 : BitVec 32 := Scalar.subi v371 v3
  let v373 : BitVec 32 := Scalar.maxsi c0_i32_159 v372
  let v374 : BitVec 32 := Scalar.minsi c1024_i32_160 v373
  let c768_i32_1030 : BitVec 32 := 768#32
  let v1589 : BitVec 32 := Scalar.subi v374 c768_i32_1030
  let v1590 : BitVec 32 := Scalar.maxsi c0_i32_1031 v1589
  let v1591 : BitVec 32 := Scalar.minsi c256_i32_1032 v1590
  let v1805 : BitVec 32 := Scalar.subi v1591 v1588
  let c1_i32_1196 : BitVec 32 := 1#32
  let v1807 : BitVec 32 := Scalar.divsi v1805 c1_i32_1196
  let v1808 : BitVec 32 := Scalar.muli v1807 c1_i32_1196
  let v1809 : BitVec 32 := Scalar.addi v1588 v1808
  let c1_i32_1198 : BitVec 32 := 1#32
  let arg13 : BitVec 32 := Scf.iv v1809 c1_i32_1198 k1_t212
  let v1840 : Index := Scalar.indexCast arg13
  let c112 : Index := 112#32
  ![v1840.toNat, 112]

def k1_chk10_0 (i : grid1.Coords) (v364 : BitVec 32) (v370 : BitVec 32) : Prop :=
  (∀ (k1_h10 : k1_cond10 i v364 v370 = 1#1), (k1_t19_loop i v364 v370).OK) ∧
  (∀ k1_t19 : Fin (k1_t19_loop i v364 v370).trips, ∀ (k1_h10 : k1_cond10 i v364 v370 = 1#1), ∀ a, (k1_off74 i v364 v370 k1_t19) a + S1x16.size a ≤ S256x128.size a) ∧
  (∀ k1_t19 : Fin (k1_t19_loop i v364 v370).trips, ∀ (k1_h10 : k1_cond10 i v364 v370 = 1#1), ∀ a, (k1_off75 i v364 v370 k1_t19) a + S1x16.size a ≤ S256x128.size a) ∧
  (∀ k1_t19 : Fin (k1_t19_loop i v364 v370).trips, ∀ (k1_h10 : k1_cond10 i v364 v370 = 1#1), ∀ a, (k1_off76 i v364 v370 k1_t19) a + S1x16.size a ≤ S256x128.size a) ∧
  (∀ k1_t19 : Fin (k1_t19_loop i v364 v370).trips, ∀ (k1_h10 : k1_cond10 i v364 v370 = 1#1), ∀ a, (k1_off77 i v364 v370 k1_t19) a + S1x16.size a ≤ S256x128.size a) ∧
  (∀ (k1_h10 : k1_cond10 i v364 v370 = 1#1), (k1_t20_loop i v364 v370).OK) ∧
  (∀ k1_t20 : Fin (k1_t20_loop i v364 v370).trips, ∀ (k1_h10 : k1_cond10 i v364 v370 = 1#1), ∀ a, (k1_off78 i v364 v370 k1_t20) a + S1x16.size a ≤ S256x128.size a) ∧
  (∀ k1_t20 : Fin (k1_t20_loop i v364 v370).trips, ∀ (k1_h10 : k1_cond10 i v364 v370 = 1#1), ∀ a, (k1_off79 i v364 v370 k1_t20) a + S1x16.size a ≤ S256x128.size a) ∧
  (∀ k1_t20 : Fin (k1_t20_loop i v364 v370).trips, ∀ (k1_h10 : k1_cond10 i v364 v370 = 1#1), ∀ a, (k1_off80 i v364 v370 k1_t20) a + S1x16.size a ≤ S256x128.size a) ∧
  (∀ k1_t20 : Fin (k1_t20_loop i v364 v370).trips, ∀ (k1_h10 : k1_cond10 i v364 v370 = 1#1), ∀ a, (k1_off81 i v364 v370 k1_t20) a + S1x16.size a ≤ S256x128.size a) ∧
  (∀ (k1_h42 : k1_cond42 i v364 v370 = 1#1), (k1_t83_loop i v364 v370).OK) ∧
  (∀ k1_t83 : Fin (k1_t83_loop i v364 v370).trips, ∀ (k1_h42 : k1_cond42 i v364 v370 = 1#1), ∀ a, (k1_off331 i v364 v370 k1_t83) a + S1x16.size a ≤ S256x128.size a) ∧
  (∀ k1_t83 : Fin (k1_t83_loop i v364 v370).trips, ∀ (k1_h42 : k1_cond42 i v364 v370 = 1#1), ∀ a, (k1_off332 i v364 v370 k1_t83) a + S1x16.size a ≤ S256x128.size a) ∧
  (∀ k1_t83 : Fin (k1_t83_loop i v364 v370).trips, ∀ (k1_h42 : k1_cond42 i v364 v370 = 1#1), ∀ a, (k1_off333 i v364 v370 k1_t83) a + S1x16.size a ≤ S256x128.size a) ∧
  (∀ k1_t83 : Fin (k1_t83_loop i v364 v370).trips, ∀ (k1_h42 : k1_cond42 i v364 v370 = 1#1), ∀ a, (k1_off334 i v364 v370 k1_t83) a + S1x16.size a ≤ S256x128.size a) ∧
  (∀ (k1_h42 : k1_cond42 i v364 v370 = 1#1), (k1_t84_loop i v364 v370).OK) ∧
  (∀ k1_t84 : Fin (k1_t84_loop i v364 v370).trips, ∀ (k1_h42 : k1_cond42 i v364 v370 = 1#1), ∀ a, (k1_off335 i v364 v370 k1_t84) a + S1x16.size a ≤ S256x128.size a) ∧
  (∀ k1_t84 : Fin (k1_t84_loop i v364 v370).trips, ∀ (k1_h42 : k1_cond42 i v364 v370 = 1#1), ∀ a, (k1_off336 i v364 v370 k1_t84) a + S1x16.size a ≤ S256x128.size a) ∧
  (∀ k1_t84 : Fin (k1_t84_loop i v364 v370).trips, ∀ (k1_h42 : k1_cond42 i v364 v370 = 1#1), ∀ a, (k1_off337 i v364 v370 k1_t84) a + S1x16.size a ≤ S256x128.size a) ∧
  (∀ k1_t84 : Fin (k1_t84_loop i v364 v370).trips, ∀ (k1_h42 : k1_cond42 i v364 v370 = 1#1), ∀ a, (k1_off338 i v364 v370 k1_t84) a + S1x16.size a ≤ S256x128.size a) ∧
  (∀ (k1_h74 : k1_cond74 i v364 v370 = 1#1), (k1_t147_loop i v364 v370).OK) ∧
  (∀ k1_t147 : Fin (k1_t147_loop i v364 v370).trips, ∀ (k1_h74 : k1_cond74 i v364 v370 = 1#1), ∀ a, (k1_off587 i v364 v370 k1_t147) a + S1x16.size a ≤ S256x128.size a) ∧
  (∀ k1_t147 : Fin (k1_t147_loop i v364 v370).trips, ∀ (k1_h74 : k1_cond74 i v364 v370 = 1#1), ∀ a, (k1_off588 i v364 v370 k1_t147) a + S1x16.size a ≤ S256x128.size a) ∧
  (∀ k1_t147 : Fin (k1_t147_loop i v364 v370).trips, ∀ (k1_h74 : k1_cond74 i v364 v370 = 1#1), ∀ a, (k1_off589 i v364 v370 k1_t147) a + S1x16.size a ≤ S256x128.size a) ∧
  (∀ k1_t147 : Fin (k1_t147_loop i v364 v370).trips, ∀ (k1_h74 : k1_cond74 i v364 v370 = 1#1), ∀ a, (k1_off590 i v364 v370 k1_t147) a + S1x16.size a ≤ S256x128.size a) ∧
  (∀ (k1_h74 : k1_cond74 i v364 v370 = 1#1), (k1_t148_loop i v364 v370).OK) ∧
  (∀ k1_t148 : Fin (k1_t148_loop i v364 v370).trips, ∀ (k1_h74 : k1_cond74 i v364 v370 = 1#1), ∀ a, (k1_off591 i v364 v370 k1_t148) a + S1x16.size a ≤ S256x128.size a) ∧
  (∀ k1_t148 : Fin (k1_t148_loop i v364 v370).trips, ∀ (k1_h74 : k1_cond74 i v364 v370 = 1#1), ∀ a, (k1_off592 i v364 v370 k1_t148) a + S1x16.size a ≤ S256x128.size a) ∧
  (∀ k1_t148 : Fin (k1_t148_loop i v364 v370).trips, ∀ (k1_h74 : k1_cond74 i v364 v370 = 1#1), ∀ a, (k1_off593 i v364 v370 k1_t148) a + S1x16.size a ≤ S256x128.size a) ∧
  (∀ k1_t148 : Fin (k1_t148_loop i v364 v370).trips, ∀ (k1_h74 : k1_cond74 i v364 v370 = 1#1), ∀ a, (k1_off594 i v364 v370 k1_t148) a + S1x16.size a ≤ S256x128.size a) ∧
  (∀ (k1_h106 : k1_cond106 i v364 v370 = 1#1), (k1_t211_loop i v364 v370).OK) ∧
  (∀ k1_t211 : Fin (k1_t211_loop i v364 v370).trips, ∀ (k1_h106 : k1_cond106 i v364 v370 = 1#1), ∀ a, (k1_off843 i v364 v370 k1_t211) a + S1x16.size a ≤ S256x128.size a)
def k1_chk10_1 (i : grid1.Coords) (v364 : BitVec 32) (v370 : BitVec 32) : Prop :=
  (∀ k1_t211 : Fin (k1_t211_loop i v364 v370).trips, ∀ (k1_h106 : k1_cond106 i v364 v370 = 1#1), ∀ a, (k1_off844 i v364 v370 k1_t211) a + S1x16.size a ≤ S256x128.size a) ∧
  (∀ k1_t211 : Fin (k1_t211_loop i v364 v370).trips, ∀ (k1_h106 : k1_cond106 i v364 v370 = 1#1), ∀ a, (k1_off845 i v364 v370 k1_t211) a + S1x16.size a ≤ S256x128.size a) ∧
  (∀ k1_t211 : Fin (k1_t211_loop i v364 v370).trips, ∀ (k1_h106 : k1_cond106 i v364 v370 = 1#1), ∀ a, (k1_off846 i v364 v370 k1_t211) a + S1x16.size a ≤ S256x128.size a) ∧
  (∀ (k1_h106 : k1_cond106 i v364 v370 = 1#1), (k1_t212_loop i v364 v370).OK) ∧
  (∀ k1_t212 : Fin (k1_t212_loop i v364 v370).trips, ∀ (k1_h106 : k1_cond106 i v364 v370 = 1#1), ∀ a, (k1_off847 i v364 v370 k1_t212) a + S1x16.size a ≤ S256x128.size a) ∧
  (∀ k1_t212 : Fin (k1_t212_loop i v364 v370).trips, ∀ (k1_h106 : k1_cond106 i v364 v370 = 1#1), ∀ a, (k1_off848 i v364 v370 k1_t212) a + S1x16.size a ≤ S256x128.size a) ∧
  (∀ k1_t212 : Fin (k1_t212_loop i v364 v370).trips, ∀ (k1_h106 : k1_cond106 i v364 v370 = 1#1), ∀ a, (k1_off849 i v364 v370 k1_t212) a + S1x16.size a ≤ S256x128.size a) ∧
  (∀ k1_t212 : Fin (k1_t212_loop i v364 v370).trips, ∀ (k1_h106 : k1_cond106 i v364 v370 = 1#1), ∀ a, (k1_off850 i v364 v370 k1_t212) a + S1x16.size a ≤ S256x128.size a)
def k1_chk10 (i : grid1.Coords) (v364 : BitVec 32) (v370 : BitVec 32) : Prop :=
  k1_chk10_0 i v364 v370 ∧
  k1_chk10_1 i v364 v370
theorem k1_t19_ok : ∀ (i : grid1.Coords) (v364 : BitVec 32) (v370 : BitVec 32) (k1_hw10 : k1_chk10 i v364 v370), ∀ (k1_h10 : k1_cond10 i v364 v370 = 1#1), (k1_t19_loop i v364 v370).OK := fun i v364 v370 k1_hw10 k1_h10 => k1_hw10.1.1 k1_h10
theorem k1_off74_inb : ∀ (i : grid1.Coords) (v364 : BitVec 32) (v370 : BitVec 32) (k1_hw10 : k1_chk10 i v364 v370) (k1_t19 : Fin (k1_t19_loop i v364 v370).trips), ∀ (k1_h10 : k1_cond10 i v364 v370 = 1#1), ∀ a, (k1_off74 i v364 v370 k1_t19) a + S1x16.size a ≤ S256x128.size a := fun i v364 v370 k1_hw10 k1_t19 k1_h10 => k1_hw10.1.2.1 k1_t19 k1_h10
theorem k1_off75_inb : ∀ (i : grid1.Coords) (v364 : BitVec 32) (v370 : BitVec 32) (k1_hw10 : k1_chk10 i v364 v370) (k1_t19 : Fin (k1_t19_loop i v364 v370).trips), ∀ (k1_h10 : k1_cond10 i v364 v370 = 1#1), ∀ a, (k1_off75 i v364 v370 k1_t19) a + S1x16.size a ≤ S256x128.size a := fun i v364 v370 k1_hw10 k1_t19 k1_h10 => k1_hw10.1.2.2.1 k1_t19 k1_h10
theorem k1_off76_inb : ∀ (i : grid1.Coords) (v364 : BitVec 32) (v370 : BitVec 32) (k1_hw10 : k1_chk10 i v364 v370) (k1_t19 : Fin (k1_t19_loop i v364 v370).trips), ∀ (k1_h10 : k1_cond10 i v364 v370 = 1#1), ∀ a, (k1_off76 i v364 v370 k1_t19) a + S1x16.size a ≤ S256x128.size a := fun i v364 v370 k1_hw10 k1_t19 k1_h10 => k1_hw10.1.2.2.2.1 k1_t19 k1_h10
theorem k1_off77_inb : ∀ (i : grid1.Coords) (v364 : BitVec 32) (v370 : BitVec 32) (k1_hw10 : k1_chk10 i v364 v370) (k1_t19 : Fin (k1_t19_loop i v364 v370).trips), ∀ (k1_h10 : k1_cond10 i v364 v370 = 1#1), ∀ a, (k1_off77 i v364 v370 k1_t19) a + S1x16.size a ≤ S256x128.size a := fun i v364 v370 k1_hw10 k1_t19 k1_h10 => k1_hw10.1.2.2.2.2.1 k1_t19 k1_h10
theorem k1_t20_ok : ∀ (i : grid1.Coords) (v364 : BitVec 32) (v370 : BitVec 32) (k1_hw10 : k1_chk10 i v364 v370), ∀ (k1_h10 : k1_cond10 i v364 v370 = 1#1), (k1_t20_loop i v364 v370).OK := fun i v364 v370 k1_hw10 k1_h10 => k1_hw10.1.2.2.2.2.2.1 k1_h10
theorem k1_off78_inb : ∀ (i : grid1.Coords) (v364 : BitVec 32) (v370 : BitVec 32) (k1_hw10 : k1_chk10 i v364 v370) (k1_t20 : Fin (k1_t20_loop i v364 v370).trips), ∀ (k1_h10 : k1_cond10 i v364 v370 = 1#1), ∀ a, (k1_off78 i v364 v370 k1_t20) a + S1x16.size a ≤ S256x128.size a := fun i v364 v370 k1_hw10 k1_t20 k1_h10 => k1_hw10.1.2.2.2.2.2.2.1 k1_t20 k1_h10
theorem k1_off79_inb : ∀ (i : grid1.Coords) (v364 : BitVec 32) (v370 : BitVec 32) (k1_hw10 : k1_chk10 i v364 v370) (k1_t20 : Fin (k1_t20_loop i v364 v370).trips), ∀ (k1_h10 : k1_cond10 i v364 v370 = 1#1), ∀ a, (k1_off79 i v364 v370 k1_t20) a + S1x16.size a ≤ S256x128.size a := fun i v364 v370 k1_hw10 k1_t20 k1_h10 => k1_hw10.1.2.2.2.2.2.2.2.1 k1_t20 k1_h10
theorem k1_off80_inb : ∀ (i : grid1.Coords) (v364 : BitVec 32) (v370 : BitVec 32) (k1_hw10 : k1_chk10 i v364 v370) (k1_t20 : Fin (k1_t20_loop i v364 v370).trips), ∀ (k1_h10 : k1_cond10 i v364 v370 = 1#1), ∀ a, (k1_off80 i v364 v370 k1_t20) a + S1x16.size a ≤ S256x128.size a := fun i v364 v370 k1_hw10 k1_t20 k1_h10 => k1_hw10.1.2.2.2.2.2.2.2.2.1 k1_t20 k1_h10
theorem k1_off81_inb : ∀ (i : grid1.Coords) (v364 : BitVec 32) (v370 : BitVec 32) (k1_hw10 : k1_chk10 i v364 v370) (k1_t20 : Fin (k1_t20_loop i v364 v370).trips), ∀ (k1_h10 : k1_cond10 i v364 v370 = 1#1), ∀ a, (k1_off81 i v364 v370 k1_t20) a + S1x16.size a ≤ S256x128.size a := fun i v364 v370 k1_hw10 k1_t20 k1_h10 => k1_hw10.1.2.2.2.2.2.2.2.2.2.1 k1_t20 k1_h10
theorem k1_t83_ok : ∀ (i : grid1.Coords) (v364 : BitVec 32) (v370 : BitVec 32) (k1_hw10 : k1_chk10 i v364 v370), ∀ (k1_h42 : k1_cond42 i v364 v370 = 1#1), (k1_t83_loop i v364 v370).OK := fun i v364 v370 k1_hw10 k1_h42 => k1_hw10.1.2.2.2.2.2.2.2.2.2.2.1 k1_h42
theorem k1_off331_inb : ∀ (i : grid1.Coords) (v364 : BitVec 32) (v370 : BitVec 32) (k1_hw10 : k1_chk10 i v364 v370) (k1_t83 : Fin (k1_t83_loop i v364 v370).trips), ∀ (k1_h42 : k1_cond42 i v364 v370 = 1#1), ∀ a, (k1_off331 i v364 v370 k1_t83) a + S1x16.size a ≤ S256x128.size a := fun i v364 v370 k1_hw10 k1_t83 k1_h42 => k1_hw10.1.2.2.2.2.2.2.2.2.2.2.2.1 k1_t83 k1_h42
theorem k1_off332_inb : ∀ (i : grid1.Coords) (v364 : BitVec 32) (v370 : BitVec 32) (k1_hw10 : k1_chk10 i v364 v370) (k1_t83 : Fin (k1_t83_loop i v364 v370).trips), ∀ (k1_h42 : k1_cond42 i v364 v370 = 1#1), ∀ a, (k1_off332 i v364 v370 k1_t83) a + S1x16.size a ≤ S256x128.size a := fun i v364 v370 k1_hw10 k1_t83 k1_h42 => k1_hw10.1.2.2.2.2.2.2.2.2.2.2.2.2.1 k1_t83 k1_h42
theorem k1_off333_inb : ∀ (i : grid1.Coords) (v364 : BitVec 32) (v370 : BitVec 32) (k1_hw10 : k1_chk10 i v364 v370) (k1_t83 : Fin (k1_t83_loop i v364 v370).trips), ∀ (k1_h42 : k1_cond42 i v364 v370 = 1#1), ∀ a, (k1_off333 i v364 v370 k1_t83) a + S1x16.size a ≤ S256x128.size a := fun i v364 v370 k1_hw10 k1_t83 k1_h42 => k1_hw10.1.2.2.2.2.2.2.2.2.2.2.2.2.2.1 k1_t83 k1_h42
theorem k1_off334_inb : ∀ (i : grid1.Coords) (v364 : BitVec 32) (v370 : BitVec 32) (k1_hw10 : k1_chk10 i v364 v370) (k1_t83 : Fin (k1_t83_loop i v364 v370).trips), ∀ (k1_h42 : k1_cond42 i v364 v370 = 1#1), ∀ a, (k1_off334 i v364 v370 k1_t83) a + S1x16.size a ≤ S256x128.size a := fun i v364 v370 k1_hw10 k1_t83 k1_h42 => k1_hw10.1.2.2.2.2.2.2.2.2.2.2.2.2.2.2.1 k1_t83 k1_h42
theorem k1_t84_ok : ∀ (i : grid1.Coords) (v364 : BitVec 32) (v370 : BitVec 32) (k1_hw10 : k1_chk10 i v364 v370), ∀ (k1_h42 : k1_cond42 i v364 v370 = 1#1), (k1_t84_loop i v364 v370).OK := fun i v364 v370 k1_hw10 k1_h42 => k1_hw10.1.2.2.2.2.2.2.2.2.2.2.2.2.2.2.2.1 k1_h42
theorem k1_off335_inb : ∀ (i : grid1.Coords) (v364 : BitVec 32) (v370 : BitVec 32) (k1_hw10 : k1_chk10 i v364 v370) (k1_t84 : Fin (k1_t84_loop i v364 v370).trips), ∀ (k1_h42 : k1_cond42 i v364 v370 = 1#1), ∀ a, (k1_off335 i v364 v370 k1_t84) a + S1x16.size a ≤ S256x128.size a := fun i v364 v370 k1_hw10 k1_t84 k1_h42 => k1_hw10.1.2.2.2.2.2.2.2.2.2.2.2.2.2.2.2.2.1 k1_t84 k1_h42
theorem k1_off336_inb : ∀ (i : grid1.Coords) (v364 : BitVec 32) (v370 : BitVec 32) (k1_hw10 : k1_chk10 i v364 v370) (k1_t84 : Fin (k1_t84_loop i v364 v370).trips), ∀ (k1_h42 : k1_cond42 i v364 v370 = 1#1), ∀ a, (k1_off336 i v364 v370 k1_t84) a + S1x16.size a ≤ S256x128.size a := fun i v364 v370 k1_hw10 k1_t84 k1_h42 => k1_hw10.1.2.2.2.2.2.2.2.2.2.2.2.2.2.2.2.2.2.1 k1_t84 k1_h42
theorem k1_off337_inb : ∀ (i : grid1.Coords) (v364 : BitVec 32) (v370 : BitVec 32) (k1_hw10 : k1_chk10 i v364 v370) (k1_t84 : Fin (k1_t84_loop i v364 v370).trips), ∀ (k1_h42 : k1_cond42 i v364 v370 = 1#1), ∀ a, (k1_off337 i v364 v370 k1_t84) a + S1x16.size a ≤ S256x128.size a := fun i v364 v370 k1_hw10 k1_t84 k1_h42 => k1_hw10.1.2.2.2.2.2.2.2.2.2.2.2.2.2.2.2.2.2.2.1 k1_t84 k1_h42
theorem k1_off338_inb : ∀ (i : grid1.Coords) (v364 : BitVec 32) (v370 : BitVec 32) (k1_hw10 : k1_chk10 i v364 v370) (k1_t84 : Fin (k1_t84_loop i v364 v370).trips), ∀ (k1_h42 : k1_cond42 i v364 v370 = 1#1), ∀ a, (k1_off338 i v364 v370 k1_t84) a + S1x16.size a ≤ S256x128.size a := fun i v364 v370 k1_hw10 k1_t84 k1_h42 => k1_hw10.1.2.2.2.2.2.2.2.2.2.2.2.2.2.2.2.2.2.2.2.1 k1_t84 k1_h42
theorem k1_t147_ok : ∀ (i : grid1.Coords) (v364 : BitVec 32) (v370 : BitVec 32) (k1_hw10 : k1_chk10 i v364 v370), ∀ (k1_h74 : k1_cond74 i v364 v370 = 1#1), (k1_t147_loop i v364 v370).OK := fun i v364 v370 k1_hw10 k1_h74 => k1_hw10.1.2.2.2.2.2.2.2.2.2.2.2.2.2.2.2.2.2.2.2.2.1 k1_h74
theorem k1_off587_inb : ∀ (i : grid1.Coords) (v364 : BitVec 32) (v370 : BitVec 32) (k1_hw10 : k1_chk10 i v364 v370) (k1_t147 : Fin (k1_t147_loop i v364 v370).trips), ∀ (k1_h74 : k1_cond74 i v364 v370 = 1#1), ∀ a, (k1_off587 i v364 v370 k1_t147) a + S1x16.size a ≤ S256x128.size a := fun i v364 v370 k1_hw10 k1_t147 k1_h74 => k1_hw10.1.2.2.2.2.2.2.2.2.2.2.2.2.2.2.2.2.2.2.2.2.2.1 k1_t147 k1_h74
theorem k1_off588_inb : ∀ (i : grid1.Coords) (v364 : BitVec 32) (v370 : BitVec 32) (k1_hw10 : k1_chk10 i v364 v370) (k1_t147 : Fin (k1_t147_loop i v364 v370).trips), ∀ (k1_h74 : k1_cond74 i v364 v370 = 1#1), ∀ a, (k1_off588 i v364 v370 k1_t147) a + S1x16.size a ≤ S256x128.size a := fun i v364 v370 k1_hw10 k1_t147 k1_h74 => k1_hw10.1.2.2.2.2.2.2.2.2.2.2.2.2.2.2.2.2.2.2.2.2.2.2.1 k1_t147 k1_h74
theorem k1_off589_inb : ∀ (i : grid1.Coords) (v364 : BitVec 32) (v370 : BitVec 32) (k1_hw10 : k1_chk10 i v364 v370) (k1_t147 : Fin (k1_t147_loop i v364 v370).trips), ∀ (k1_h74 : k1_cond74 i v364 v370 = 1#1), ∀ a, (k1_off589 i v364 v370 k1_t147) a + S1x16.size a ≤ S256x128.size a := fun i v364 v370 k1_hw10 k1_t147 k1_h74 => k1_hw10.1.2.2.2.2.2.2.2.2.2.2.2.2.2.2.2.2.2.2.2.2.2.2.2.1 k1_t147 k1_h74
theorem k1_off590_inb : ∀ (i : grid1.Coords) (v364 : BitVec 32) (v370 : BitVec 32) (k1_hw10 : k1_chk10 i v364 v370) (k1_t147 : Fin (k1_t147_loop i v364 v370).trips), ∀ (k1_h74 : k1_cond74 i v364 v370 = 1#1), ∀ a, (k1_off590 i v364 v370 k1_t147) a + S1x16.size a ≤ S256x128.size a := fun i v364 v370 k1_hw10 k1_t147 k1_h74 => k1_hw10.1.2.2.2.2.2.2.2.2.2.2.2.2.2.2.2.2.2.2.2.2.2.2.2.2.1 k1_t147 k1_h74
theorem k1_t148_ok : ∀ (i : grid1.Coords) (v364 : BitVec 32) (v370 : BitVec 32) (k1_hw10 : k1_chk10 i v364 v370), ∀ (k1_h74 : k1_cond74 i v364 v370 = 1#1), (k1_t148_loop i v364 v370).OK := fun i v364 v370 k1_hw10 k1_h74 => k1_hw10.1.2.2.2.2.2.2.2.2.2.2.2.2.2.2.2.2.2.2.2.2.2.2.2.2.2.1 k1_h74
theorem k1_off591_inb : ∀ (i : grid1.Coords) (v364 : BitVec 32) (v370 : BitVec 32) (k1_hw10 : k1_chk10 i v364 v370) (k1_t148 : Fin (k1_t148_loop i v364 v370).trips), ∀ (k1_h74 : k1_cond74 i v364 v370 = 1#1), ∀ a, (k1_off591 i v364 v370 k1_t148) a + S1x16.size a ≤ S256x128.size a := fun i v364 v370 k1_hw10 k1_t148 k1_h74 => k1_hw10.1.2.2.2.2.2.2.2.2.2.2.2.2.2.2.2.2.2.2.2.2.2.2.2.2.2.2.1 k1_t148 k1_h74
theorem k1_off592_inb : ∀ (i : grid1.Coords) (v364 : BitVec 32) (v370 : BitVec 32) (k1_hw10 : k1_chk10 i v364 v370) (k1_t148 : Fin (k1_t148_loop i v364 v370).trips), ∀ (k1_h74 : k1_cond74 i v364 v370 = 1#1), ∀ a, (k1_off592 i v364 v370 k1_t148) a + S1x16.size a ≤ S256x128.size a := fun i v364 v370 k1_hw10 k1_t148 k1_h74 => k1_hw10.1.2.2.2.2.2.2.2.2.2.2.2.2.2.2.2.2.2.2.2.2.2.2.2.2.2.2.2.1 k1_t148 k1_h74
theorem k1_off593_inb : ∀ (i : grid1.Coords) (v364 : BitVec 32) (v370 : BitVec 32) (k1_hw10 : k1_chk10 i v364 v370) (k1_t148 : Fin (k1_t148_loop i v364 v370).trips), ∀ (k1_h74 : k1_cond74 i v364 v370 = 1#1), ∀ a, (k1_off593 i v364 v370 k1_t148) a + S1x16.size a ≤ S256x128.size a := fun i v364 v370 k1_hw10 k1_t148 k1_h74 => k1_hw10.1.2.2.2.2.2.2.2.2.2.2.2.2.2.2.2.2.2.2.2.2.2.2.2.2.2.2.2.2.1 k1_t148 k1_h74
theorem k1_off594_inb : ∀ (i : grid1.Coords) (v364 : BitVec 32) (v370 : BitVec 32) (k1_hw10 : k1_chk10 i v364 v370) (k1_t148 : Fin (k1_t148_loop i v364 v370).trips), ∀ (k1_h74 : k1_cond74 i v364 v370 = 1#1), ∀ a, (k1_off594 i v364 v370 k1_t148) a + S1x16.size a ≤ S256x128.size a := fun i v364 v370 k1_hw10 k1_t148 k1_h74 => k1_hw10.1.2.2.2.2.2.2.2.2.2.2.2.2.2.2.2.2.2.2.2.2.2.2.2.2.2.2.2.2.2.1 k1_t148 k1_h74
theorem k1_t211_ok : ∀ (i : grid1.Coords) (v364 : BitVec 32) (v370 : BitVec 32) (k1_hw10 : k1_chk10 i v364 v370), ∀ (k1_h106 : k1_cond106 i v364 v370 = 1#1), (k1_t211_loop i v364 v370).OK := fun i v364 v370 k1_hw10 k1_h106 => k1_hw10.1.2.2.2.2.2.2.2.2.2.2.2.2.2.2.2.2.2.2.2.2.2.2.2.2.2.2.2.2.2.2.1 k1_h106
theorem k1_off843_inb : ∀ (i : grid1.Coords) (v364 : BitVec 32) (v370 : BitVec 32) (k1_hw10 : k1_chk10 i v364 v370) (k1_t211 : Fin (k1_t211_loop i v364 v370).trips), ∀ (k1_h106 : k1_cond106 i v364 v370 = 1#1), ∀ a, (k1_off843 i v364 v370 k1_t211) a + S1x16.size a ≤ S256x128.size a := fun i v364 v370 k1_hw10 k1_t211 k1_h106 => k1_hw10.1.2.2.2.2.2.2.2.2.2.2.2.2.2.2.2.2.2.2.2.2.2.2.2.2.2.2.2.2.2.2.2 k1_t211 k1_h106
theorem k1_off844_inb : ∀ (i : grid1.Coords) (v364 : BitVec 32) (v370 : BitVec 32) (k1_hw10 : k1_chk10 i v364 v370) (k1_t211 : Fin (k1_t211_loop i v364 v370).trips), ∀ (k1_h106 : k1_cond106 i v364 v370 = 1#1), ∀ a, (k1_off844 i v364 v370 k1_t211) a + S1x16.size a ≤ S256x128.size a := fun i v364 v370 k1_hw10 k1_t211 k1_h106 => k1_hw10.2.1 k1_t211 k1_h106
theorem k1_off845_inb : ∀ (i : grid1.Coords) (v364 : BitVec 32) (v370 : BitVec 32) (k1_hw10 : k1_chk10 i v364 v370) (k1_t211 : Fin (k1_t211_loop i v364 v370).trips), ∀ (k1_h106 : k1_cond106 i v364 v370 = 1#1), ∀ a, (k1_off845 i v364 v370 k1_t211) a + S1x16.size a ≤ S256x128.size a := fun i v364 v370 k1_hw10 k1_t211 k1_h106 => k1_hw10.2.2.1 k1_t211 k1_h106
theorem k1_off846_inb : ∀ (i : grid1.Coords) (v364 : BitVec 32) (v370 : BitVec 32) (k1_hw10 : k1_chk10 i v364 v370) (k1_t211 : Fin (k1_t211_loop i v364 v370).trips), ∀ (k1_h106 : k1_cond106 i v364 v370 = 1#1), ∀ a, (k1_off846 i v364 v370 k1_t211) a + S1x16.size a ≤ S256x128.size a := fun i v364 v370 k1_hw10 k1_t211 k1_h106 => k1_hw10.2.2.2.1 k1_t211 k1_h106
theorem k1_t212_ok : ∀ (i : grid1.Coords) (v364 : BitVec 32) (v370 : BitVec 32) (k1_hw10 : k1_chk10 i v364 v370), ∀ (k1_h106 : k1_cond106 i v364 v370 = 1#1), (k1_t212_loop i v364 v370).OK := fun i v364 v370 k1_hw10 k1_h106 => k1_hw10.2.2.2.2.1 k1_h106
theorem k1_off847_inb : ∀ (i : grid1.Coords) (v364 : BitVec 32) (v370 : BitVec 32) (k1_hw10 : k1_chk10 i v364 v370) (k1_t212 : Fin (k1_t212_loop i v364 v370).trips), ∀ (k1_h106 : k1_cond106 i v364 v370 = 1#1), ∀ a, (k1_off847 i v364 v370 k1_t212) a + S1x16.size a ≤ S256x128.size a := fun i v364 v370 k1_hw10 k1_t212 k1_h106 => k1_hw10.2.2.2.2.2.1 k1_t212 k1_h106
theorem k1_off848_inb : ∀ (i : grid1.Coords) (v364 : BitVec 32) (v370 : BitVec 32) (k1_hw10 : k1_chk10 i v364 v370) (k1_t212 : Fin (k1_t212_loop i v364 v370).trips), ∀ (k1_h106 : k1_cond106 i v364 v370 = 1#1), ∀ a, (k1_off848 i v364 v370 k1_t212) a + S1x16.size a ≤ S256x128.size a := fun i v364 v370 k1_hw10 k1_t212 k1_h106 => k1_hw10.2.2.2.2.2.2.1 k1_t212 k1_h106
theorem k1_off849_inb : ∀ (i : grid1.Coords) (v364 : BitVec 32) (v370 : BitVec 32) (k1_hw10 : k1_chk10 i v364 v370) (k1_t212 : Fin (k1_t212_loop i v364 v370).trips), ∀ (k1_h106 : k1_cond106 i v364 v370 = 1#1), ∀ a, (k1_off849 i v364 v370 k1_t212) a + S1x16.size a ≤ S256x128.size a := fun i v364 v370 k1_hw10 k1_t212 k1_h106 => k1_hw10.2.2.2.2.2.2.2.1 k1_t212 k1_h106
theorem k1_off850_inb : ∀ (i : grid1.Coords) (v364 : BitVec 32) (v370 : BitVec 32) (k1_hw10 : k1_chk10 i v364 v370) (k1_t212 : Fin (k1_t212_loop i v364 v370).trips), ∀ (k1_h106 : k1_cond106 i v364 v370 = 1#1), ∀ a, (k1_off850 i v364 v370 k1_t212) a + S1x16.size a ≤ S256x128.size a := fun i v364 v370 k1_hw10 k1_t212 k1_h106 => k1_hw10.2.2.2.2.2.2.2.2 k1_t212 k1_h106

@[reducible] def k1_t213_loop (i : grid1.Coords) (v376 : BitVec 32) (v381 : BitVec 32) : Scf.Loop 32 :=
  let c256_i32_1036 : BitVec 32 := 256#32
  let c0_i32_1035 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let c256_i32_1039 : BitVec 32 := 256#32
  let c0_i32_1038 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c768_i32_1037 : BitVec 32 := 768#32
  let v1598 : BitVec 32 := Scalar.subi v384 c768_i32_1037
  let v1599 : BitVec 32 := Scalar.maxsi c0_i32_1038 v1598
  let v1600 : BitVec 32 := Scalar.minsi c256_i32_1039 v1599
  let v1805 : BitVec 32 := Scalar.subi v1600 v1597
  let c1_i32_1196 : BitVec 32 := 1#32
  let v1807 : BitVec 32 := Scalar.divsi v1805 c1_i32_1196
  let v1808 : BitVec 32 := Scalar.muli v1807 c1_i32_1196
  let v1809 : BitVec 32 := Scalar.addi v1597 v1808
  let c1_i32_1197 : BitVec 32 := 1#32
  ⟨v1597, v1809, c1_i32_1197⟩
def k1_cond107 (i : grid1.Coords) (v376 : BitVec 32) (v381 : BitVec 32) : BitVec 1 :=
  let c256_i32_1039 : BitVec 32 := 256#32
  let c0_i32_1038 : BitVec 32 := 0#32
  let c1024_i32_164 : BitVec 32 := 1024#32
  let c0_i32_163 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v382 : BitVec 32 := Scalar.subi v381 v3
  let v383 : BitVec 32 := Scalar.maxsi c0_i32_163 v382
  let v384 : BitVec 32 := Scalar.minsi c1024_i32_164 v383
  let c768_i32_1037 : BitVec 32 := 768#32
  let v1598 : BitVec 32 := Scalar.subi v384 c768_i32_1037
  let v1599 : BitVec 32 := Scalar.maxsi c0_i32_1038 v1598
  let v1600 : BitVec 32 := Scalar.minsi c256_i32_1039 v1599
  let c256_i32_1036 : BitVec 32 := 256#32
  let c0_i32_1035 : BitVec 32 := 0#32
  let c1024_i32_162 : BitVec 32 := 1024#32
  let c0_i32_161 : BitVec 32 := 0#32
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let v1601 : BitVec 1 := Scalar.cmpi .sgt v1600 v1597
  let v1602 : BitVec 32 := Scalar.extui v1601
  let c0_i32_1040 : BitVec 32 := 0#32
  let v1603 : BitVec 1 := Scalar.cmpi .ne v1602 c0_i32_1040
  v1603

def k1_off851 (i : grid1.Coords) (v376 : BitVec 32) (v381 : BitVec 32) (k1_t213 : Fin (k1_t213_loop i v376 v381).trips) : Fin 2 → Nat :=
  let c256_i32_1036 : BitVec 32 := 256#32
  let c0_i32_1035 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let c1_i32_1197 : BitVec 32 := 1#32
  let arg13 : BitVec 32 := Scf.iv v1597 c1_i32_1197 k1_t213
  let v1828 : Index := Scalar.indexCast arg13
  let c0_1207 : Index := 0#32
  ![v1828.toNat, 0]
def k1_off852 (i : grid1.Coords) (v376 : BitVec 32) (v381 : BitVec 32) (k1_t213 : Fin (k1_t213_loop i v376 v381).trips) : Fin 2 → Nat :=
  let c256_i32_1036 : BitVec 32 := 256#32
  let c0_i32_1035 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let c1_i32_1197 : BitVec 32 := 1#32
  let arg13 : BitVec 32 := Scf.iv v1597 c1_i32_1197 k1_t213
  let v1832 : Index := Scalar.indexCast arg13
  let c16_1208 : Index := 16#32
  ![v1832.toNat, 16]
def k1_off853 (i : grid1.Coords) (v376 : BitVec 32) (v381 : BitVec 32) (k1_t213 : Fin (k1_t213_loop i v376 v381).trips) : Fin 2 → Nat :=
  let c256_i32_1036 : BitVec 32 := 256#32
  let c0_i32_1035 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let c1_i32_1197 : BitVec 32 := 1#32
  let arg13 : BitVec 32 := Scf.iv v1597 c1_i32_1197 k1_t213
  let v1836 : Index := Scalar.indexCast arg13
  let c32_1209 : Index := 32#32
  ![v1836.toNat, 32]
def k1_off854 (i : grid1.Coords) (v376 : BitVec 32) (v381 : BitVec 32) (k1_t213 : Fin (k1_t213_loop i v376 v381).trips) : Fin 2 → Nat :=
  let c256_i32_1036 : BitVec 32 := 256#32
  let c0_i32_1035 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let c1_i32_1197 : BitVec 32 := 1#32
  let arg13 : BitVec 32 := Scf.iv v1597 c1_i32_1197 k1_t213
  let v1840 : Index := Scalar.indexCast arg13
  let c48_1210 : Index := 48#32
  ![v1840.toNat, 48]
@[reducible] def k1_t214_loop (i : grid1.Coords) (v376 : BitVec 32) (v381 : BitVec 32) : Scf.Loop 32 :=
  let c256_i32_1036 : BitVec 32 := 256#32
  let c0_i32_1035 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let c256_i32_1039 : BitVec 32 := 256#32
  let c0_i32_1038 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c768_i32_1037 : BitVec 32 := 768#32
  let v1598 : BitVec 32 := Scalar.subi v384 c768_i32_1037
  let v1599 : BitVec 32 := Scalar.maxsi c0_i32_1038 v1598
  let v1600 : BitVec 32 := Scalar.minsi c256_i32_1039 v1599
  let v1805 : BitVec 32 := Scalar.subi v1600 v1597
  let c1_i32_1196 : BitVec 32 := 1#32
  let v1807 : BitVec 32 := Scalar.divsi v1805 c1_i32_1196
  let v1808 : BitVec 32 := Scalar.muli v1807 c1_i32_1196
  let v1809 : BitVec 32 := Scalar.addi v1597 v1808
  let v1806 : BitVec 32 := Scalar.addi v1597 v1805
  let c1_i32_1198 : BitVec 32 := 1#32
  ⟨v1809, v1806, c1_i32_1198⟩
def k1_off855 (i : grid1.Coords) (v376 : BitVec 32) (v381 : BitVec 32) (k1_t214 : Fin (k1_t214_loop i v376 v381).trips) : Fin 2 → Nat :=
  let c256_i32_1036 : BitVec 32 := 256#32
  let c0_i32_1035 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let c256_i32_1039 : BitVec 32 := 256#32
  let c0_i32_1038 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c768_i32_1037 : BitVec 32 := 768#32
  let v1598 : BitVec 32 := Scalar.subi v384 c768_i32_1037
  let v1599 : BitVec 32 := Scalar.maxsi c0_i32_1038 v1598
  let v1600 : BitVec 32 := Scalar.minsi c256_i32_1039 v1599
  let v1805 : BitVec 32 := Scalar.subi v1600 v1597
  let c1_i32_1196 : BitVec 32 := 1#32
  let v1807 : BitVec 32 := Scalar.divsi v1805 c1_i32_1196
  let v1808 : BitVec 32 := Scalar.muli v1807 c1_i32_1196
  let v1809 : BitVec 32 := Scalar.addi v1597 v1808
  let c1_i32_1198 : BitVec 32 := 1#32
  let arg13 : BitVec 32 := Scf.iv v1809 c1_i32_1198 k1_t214
  let v1828 : Index := Scalar.indexCast arg13
  let c0_1207 : Index := 0#32
  ![v1828.toNat, 0]
def k1_off856 (i : grid1.Coords) (v376 : BitVec 32) (v381 : BitVec 32) (k1_t214 : Fin (k1_t214_loop i v376 v381).trips) : Fin 2 → Nat :=
  let c256_i32_1036 : BitVec 32 := 256#32
  let c0_i32_1035 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let c256_i32_1039 : BitVec 32 := 256#32
  let c0_i32_1038 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c768_i32_1037 : BitVec 32 := 768#32
  let v1598 : BitVec 32 := Scalar.subi v384 c768_i32_1037
  let v1599 : BitVec 32 := Scalar.maxsi c0_i32_1038 v1598
  let v1600 : BitVec 32 := Scalar.minsi c256_i32_1039 v1599
  let v1805 : BitVec 32 := Scalar.subi v1600 v1597
  let c1_i32_1196 : BitVec 32 := 1#32
  let v1807 : BitVec 32 := Scalar.divsi v1805 c1_i32_1196
  let v1808 : BitVec 32 := Scalar.muli v1807 c1_i32_1196
  let v1809 : BitVec 32 := Scalar.addi v1597 v1808
  let c1_i32_1198 : BitVec 32 := 1#32
  let arg13 : BitVec 32 := Scf.iv v1809 c1_i32_1198 k1_t214
  let v1832 : Index := Scalar.indexCast arg13
  let c16_1208 : Index := 16#32
  ![v1832.toNat, 16]
def k1_off857 (i : grid1.Coords) (v376 : BitVec 32) (v381 : BitVec 32) (k1_t214 : Fin (k1_t214_loop i v376 v381).trips) : Fin 2 → Nat :=
  let c256_i32_1036 : BitVec 32 := 256#32
  let c0_i32_1035 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let c256_i32_1039 : BitVec 32 := 256#32
  let c0_i32_1038 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c768_i32_1037 : BitVec 32 := 768#32
  let v1598 : BitVec 32 := Scalar.subi v384 c768_i32_1037
  let v1599 : BitVec 32 := Scalar.maxsi c0_i32_1038 v1598
  let v1600 : BitVec 32 := Scalar.minsi c256_i32_1039 v1599
  let v1805 : BitVec 32 := Scalar.subi v1600 v1597
  let c1_i32_1196 : BitVec 32 := 1#32
  let v1807 : BitVec 32 := Scalar.divsi v1805 c1_i32_1196
  let v1808 : BitVec 32 := Scalar.muli v1807 c1_i32_1196
  let v1809 : BitVec 32 := Scalar.addi v1597 v1808
  let c1_i32_1198 : BitVec 32 := 1#32
  let arg13 : BitVec 32 := Scf.iv v1809 c1_i32_1198 k1_t214
  let v1836 : Index := Scalar.indexCast arg13
  let c32_1209 : Index := 32#32
  ![v1836.toNat, 32]
def k1_off858 (i : grid1.Coords) (v376 : BitVec 32) (v381 : BitVec 32) (k1_t214 : Fin (k1_t214_loop i v376 v381).trips) : Fin 2 → Nat :=
  let c256_i32_1036 : BitVec 32 := 256#32
  let c0_i32_1035 : BitVec 32 := 0#32
  let c1024_i32_162 : BitVec 32 := 1024#32
  let c0_i32_161 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v377 : BitVec 32 := Scalar.subi v376 v3
  let v378 : BitVec 32 := Scalar.maxsi c0_i32_161 v377
  let v379 : BitVec 32 := Scalar.minsi c1024_i32_162 v378
  let c768_i32_1034 : BitVec 32 := 768#32
  let v1595 : BitVec 32 := Scalar.subi v379 c768_i32_1034
  let v1596 : BitVec 32 := Scalar.maxsi c0_i32_1035 v1595
  let v1597 : BitVec 32 := Scalar.minsi c256_i32_1036 v1596
  let c256_i32_1039 : BitVec 32 := 256#32
  let c0_i32_1038 : BitVec 32 := 0#32
  let c1024_i32_164 : BitVec 32 := 1024#32
  let c0_i32_163 : BitVec 32 := 0#32
  let v382 : BitVec 32 := Scalar.subi v381 v3
  let v383 : BitVec 32 := Scalar.maxsi c0_i32_163 v382
  let v384 : BitVec 32 := Scalar.minsi c1024_i32_164 v383
  let c768_i32_1037 : BitVec 32 := 768#32
  let v1598 : BitVec 32 := Scalar.subi v384 c768_i32_1037
  let v1599 : BitVec 32 := Scalar.maxsi c0_i32_1038 v1598
  let v1600 : BitVec 32 := Scalar.minsi c256_i32_1039 v1599
  let v1805 : BitVec 32 := Scalar.subi v1600 v1597
  let c1_i32_1196 : BitVec 32 := 1#32
  let v1807 : BitVec 32 := Scalar.divsi v1805 c1_i32_1196
  let v1808 : BitVec 32 := Scalar.muli v1807 c1_i32_1196
  let v1809 : BitVec 32 := Scalar.addi v1597 v1808
  let c1_i32_1198 : BitVec 32 := 1#32
  let arg13 : BitVec 32 := Scf.iv v1809 c1_i32_1198 k1_t214
  let v1840 : Index := Scalar.indexCast arg13
  let c48_1210 : Index := 48#32
  ![v1840.toNat, 48]

def k1_chk11_0 (i : grid1.Coords) (v376 : BitVec 32) (v381 : BitVec 32) : Prop :=
  (∀ (k1_h11 : k1_cond11 i v376 v381 = 1#1), (k1_t21_loop i v376 v381).OK) ∧
  (∀ k1_t21 : Fin (k1_t21_loop i v376 v381).trips, ∀ (k1_h11 : k1_cond11 i v376 v381 = 1#1), ∀ a, (k1_off82 i v376 v381 k1_t21) a + S1x16.size a ≤ S256x128.size a) ∧
  (∀ k1_t21 : Fin (k1_t21_loop i v376 v381).trips, ∀ (k1_h11 : k1_cond11 i v376 v381 = 1#1), ∀ a, (k1_off83 i v376 v381 k1_t21) a + S1x16.size a ≤ S256x128.size a) ∧
  (∀ k1_t21 : Fin (k1_t21_loop i v376 v381).trips, ∀ (k1_h11 : k1_cond11 i v376 v381 = 1#1), ∀ a, (k1_off84 i v376 v381 k1_t21) a + S1x16.size a ≤ S256x128.size a) ∧
  (∀ k1_t21 : Fin (k1_t21_loop i v376 v381).trips, ∀ (k1_h11 : k1_cond11 i v376 v381 = 1#1), ∀ a, (k1_off85 i v376 v381 k1_t21) a + S1x16.size a ≤ S256x128.size a) ∧
  (∀ (k1_h11 : k1_cond11 i v376 v381 = 1#1), (k1_t22_loop i v376 v381).OK) ∧
  (∀ k1_t22 : Fin (k1_t22_loop i v376 v381).trips, ∀ (k1_h11 : k1_cond11 i v376 v381 = 1#1), ∀ a, (k1_off86 i v376 v381 k1_t22) a + S1x16.size a ≤ S256x128.size a) ∧
  (∀ k1_t22 : Fin (k1_t22_loop i v376 v381).trips, ∀ (k1_h11 : k1_cond11 i v376 v381 = 1#1), ∀ a, (k1_off87 i v376 v381 k1_t22) a + S1x16.size a ≤ S256x128.size a) ∧
  (∀ k1_t22 : Fin (k1_t22_loop i v376 v381).trips, ∀ (k1_h11 : k1_cond11 i v376 v381 = 1#1), ∀ a, (k1_off88 i v376 v381 k1_t22) a + S1x16.size a ≤ S256x128.size a) ∧
  (∀ k1_t22 : Fin (k1_t22_loop i v376 v381).trips, ∀ (k1_h11 : k1_cond11 i v376 v381 = 1#1), ∀ a, (k1_off89 i v376 v381 k1_t22) a + S1x16.size a ≤ S256x128.size a) ∧
  (∀ (k1_h43 : k1_cond43 i v376 v381 = 1#1), (k1_t85_loop i v376 v381).OK) ∧
  (∀ k1_t85 : Fin (k1_t85_loop i v376 v381).trips, ∀ (k1_h43 : k1_cond43 i v376 v381 = 1#1), ∀ a, (k1_off339 i v376 v381 k1_t85) a + S1x16.size a ≤ S256x128.size a) ∧
  (∀ k1_t85 : Fin (k1_t85_loop i v376 v381).trips, ∀ (k1_h43 : k1_cond43 i v376 v381 = 1#1), ∀ a, (k1_off340 i v376 v381 k1_t85) a + S1x16.size a ≤ S256x128.size a) ∧
  (∀ k1_t85 : Fin (k1_t85_loop i v376 v381).trips, ∀ (k1_h43 : k1_cond43 i v376 v381 = 1#1), ∀ a, (k1_off341 i v376 v381 k1_t85) a + S1x16.size a ≤ S256x128.size a) ∧
  (∀ k1_t85 : Fin (k1_t85_loop i v376 v381).trips, ∀ (k1_h43 : k1_cond43 i v376 v381 = 1#1), ∀ a, (k1_off342 i v376 v381 k1_t85) a + S1x16.size a ≤ S256x128.size a) ∧
  (∀ (k1_h43 : k1_cond43 i v376 v381 = 1#1), (k1_t86_loop i v376 v381).OK) ∧
  (∀ k1_t86 : Fin (k1_t86_loop i v376 v381).trips, ∀ (k1_h43 : k1_cond43 i v376 v381 = 1#1), ∀ a, (k1_off343 i v376 v381 k1_t86) a + S1x16.size a ≤ S256x128.size a) ∧
  (∀ k1_t86 : Fin (k1_t86_loop i v376 v381).trips, ∀ (k1_h43 : k1_cond43 i v376 v381 = 1#1), ∀ a, (k1_off344 i v376 v381 k1_t86) a + S1x16.size a ≤ S256x128.size a) ∧
  (∀ k1_t86 : Fin (k1_t86_loop i v376 v381).trips, ∀ (k1_h43 : k1_cond43 i v376 v381 = 1#1), ∀ a, (k1_off345 i v376 v381 k1_t86) a + S1x16.size a ≤ S256x128.size a) ∧
  (∀ k1_t86 : Fin (k1_t86_loop i v376 v381).trips, ∀ (k1_h43 : k1_cond43 i v376 v381 = 1#1), ∀ a, (k1_off346 i v376 v381 k1_t86) a + S1x16.size a ≤ S256x128.size a) ∧
  (∀ (k1_h75 : k1_cond75 i v376 v381 = 1#1), (k1_t149_loop i v376 v381).OK) ∧
  (∀ k1_t149 : Fin (k1_t149_loop i v376 v381).trips, ∀ (k1_h75 : k1_cond75 i v376 v381 = 1#1), ∀ a, (k1_off595 i v376 v381 k1_t149) a + S1x16.size a ≤ S256x128.size a) ∧
  (∀ k1_t149 : Fin (k1_t149_loop i v376 v381).trips, ∀ (k1_h75 : k1_cond75 i v376 v381 = 1#1), ∀ a, (k1_off596 i v376 v381 k1_t149) a + S1x16.size a ≤ S256x128.size a) ∧
  (∀ k1_t149 : Fin (k1_t149_loop i v376 v381).trips, ∀ (k1_h75 : k1_cond75 i v376 v381 = 1#1), ∀ a, (k1_off597 i v376 v381 k1_t149) a + S1x16.size a ≤ S256x128.size a) ∧
  (∀ k1_t149 : Fin (k1_t149_loop i v376 v381).trips, ∀ (k1_h75 : k1_cond75 i v376 v381 = 1#1), ∀ a, (k1_off598 i v376 v381 k1_t149) a + S1x16.size a ≤ S256x128.size a) ∧
  (∀ (k1_h75 : k1_cond75 i v376 v381 = 1#1), (k1_t150_loop i v376 v381).OK) ∧
  (∀ k1_t150 : Fin (k1_t150_loop i v376 v381).trips, ∀ (k1_h75 : k1_cond75 i v376 v381 = 1#1), ∀ a, (k1_off599 i v376 v381 k1_t150) a + S1x16.size a ≤ S256x128.size a) ∧
  (∀ k1_t150 : Fin (k1_t150_loop i v376 v381).trips, ∀ (k1_h75 : k1_cond75 i v376 v381 = 1#1), ∀ a, (k1_off600 i v376 v381 k1_t150) a + S1x16.size a ≤ S256x128.size a) ∧
  (∀ k1_t150 : Fin (k1_t150_loop i v376 v381).trips, ∀ (k1_h75 : k1_cond75 i v376 v381 = 1#1), ∀ a, (k1_off601 i v376 v381 k1_t150) a + S1x16.size a ≤ S256x128.size a) ∧
  (∀ k1_t150 : Fin (k1_t150_loop i v376 v381).trips, ∀ (k1_h75 : k1_cond75 i v376 v381 = 1#1), ∀ a, (k1_off602 i v376 v381 k1_t150) a + S1x16.size a ≤ S256x128.size a) ∧
  (∀ (k1_h107 : k1_cond107 i v376 v381 = 1#1), (k1_t213_loop i v376 v381).OK) ∧
  (∀ k1_t213 : Fin (k1_t213_loop i v376 v381).trips, ∀ (k1_h107 : k1_cond107 i v376 v381 = 1#1), ∀ a, (k1_off851 i v376 v381 k1_t213) a + S1x16.size a ≤ S256x128.size a)
def k1_chk11_1 (i : grid1.Coords) (v376 : BitVec 32) (v381 : BitVec 32) : Prop :=
  (∀ k1_t213 : Fin (k1_t213_loop i v376 v381).trips, ∀ (k1_h107 : k1_cond107 i v376 v381 = 1#1), ∀ a, (k1_off852 i v376 v381 k1_t213) a + S1x16.size a ≤ S256x128.size a) ∧
  (∀ k1_t213 : Fin (k1_t213_loop i v376 v381).trips, ∀ (k1_h107 : k1_cond107 i v376 v381 = 1#1), ∀ a, (k1_off853 i v376 v381 k1_t213) a + S1x16.size a ≤ S256x128.size a) ∧
  (∀ k1_t213 : Fin (k1_t213_loop i v376 v381).trips, ∀ (k1_h107 : k1_cond107 i v376 v381 = 1#1), ∀ a, (k1_off854 i v376 v381 k1_t213) a + S1x16.size a ≤ S256x128.size a) ∧
  (∀ (k1_h107 : k1_cond107 i v376 v381 = 1#1), (k1_t214_loop i v376 v381).OK) ∧
  (∀ k1_t214 : Fin (k1_t214_loop i v376 v381).trips, ∀ (k1_h107 : k1_cond107 i v376 v381 = 1#1), ∀ a, (k1_off855 i v376 v381 k1_t214) a + S1x16.size a ≤ S256x128.size a) ∧
  (∀ k1_t214 : Fin (k1_t214_loop i v376 v381).trips, ∀ (k1_h107 : k1_cond107 i v376 v381 = 1#1), ∀ a, (k1_off856 i v376 v381 k1_t214) a + S1x16.size a ≤ S256x128.size a) ∧
  (∀ k1_t214 : Fin (k1_t214_loop i v376 v381).trips, ∀ (k1_h107 : k1_cond107 i v376 v381 = 1#1), ∀ a, (k1_off857 i v376 v381 k1_t214) a + S1x16.size a ≤ S256x128.size a) ∧
  (∀ k1_t214 : Fin (k1_t214_loop i v376 v381).trips, ∀ (k1_h107 : k1_cond107 i v376 v381 = 1#1), ∀ a, (k1_off858 i v376 v381 k1_t214) a + S1x16.size a ≤ S256x128.size a)
def k1_chk11 (i : grid1.Coords) (v376 : BitVec 32) (v381 : BitVec 32) : Prop :=
  k1_chk11_0 i v376 v381 ∧
  k1_chk11_1 i v376 v381
theorem k1_t21_ok : ∀ (i : grid1.Coords) (v376 : BitVec 32) (v381 : BitVec 32) (k1_hw11 : k1_chk11 i v376 v381), ∀ (k1_h11 : k1_cond11 i v376 v381 = 1#1), (k1_t21_loop i v376 v381).OK := fun i v376 v381 k1_hw11 k1_h11 => k1_hw11.1.1 k1_h11
theorem k1_off82_inb : ∀ (i : grid1.Coords) (v376 : BitVec 32) (v381 : BitVec 32) (k1_hw11 : k1_chk11 i v376 v381) (k1_t21 : Fin (k1_t21_loop i v376 v381).trips), ∀ (k1_h11 : k1_cond11 i v376 v381 = 1#1), ∀ a, (k1_off82 i v376 v381 k1_t21) a + S1x16.size a ≤ S256x128.size a := fun i v376 v381 k1_hw11 k1_t21 k1_h11 => k1_hw11.1.2.1 k1_t21 k1_h11
theorem k1_off83_inb : ∀ (i : grid1.Coords) (v376 : BitVec 32) (v381 : BitVec 32) (k1_hw11 : k1_chk11 i v376 v381) (k1_t21 : Fin (k1_t21_loop i v376 v381).trips), ∀ (k1_h11 : k1_cond11 i v376 v381 = 1#1), ∀ a, (k1_off83 i v376 v381 k1_t21) a + S1x16.size a ≤ S256x128.size a := fun i v376 v381 k1_hw11 k1_t21 k1_h11 => k1_hw11.1.2.2.1 k1_t21 k1_h11
theorem k1_off84_inb : ∀ (i : grid1.Coords) (v376 : BitVec 32) (v381 : BitVec 32) (k1_hw11 : k1_chk11 i v376 v381) (k1_t21 : Fin (k1_t21_loop i v376 v381).trips), ∀ (k1_h11 : k1_cond11 i v376 v381 = 1#1), ∀ a, (k1_off84 i v376 v381 k1_t21) a + S1x16.size a ≤ S256x128.size a := fun i v376 v381 k1_hw11 k1_t21 k1_h11 => k1_hw11.1.2.2.2.1 k1_t21 k1_h11
theorem k1_off85_inb : ∀ (i : grid1.Coords) (v376 : BitVec 32) (v381 : BitVec 32) (k1_hw11 : k1_chk11 i v376 v381) (k1_t21 : Fin (k1_t21_loop i v376 v381).trips), ∀ (k1_h11 : k1_cond11 i v376 v381 = 1#1), ∀ a, (k1_off85 i v376 v381 k1_t21) a + S1x16.size a ≤ S256x128.size a := fun i v376 v381 k1_hw11 k1_t21 k1_h11 => k1_hw11.1.2.2.2.2.1 k1_t21 k1_h11
theorem k1_t22_ok : ∀ (i : grid1.Coords) (v376 : BitVec 32) (v381 : BitVec 32) (k1_hw11 : k1_chk11 i v376 v381), ∀ (k1_h11 : k1_cond11 i v376 v381 = 1#1), (k1_t22_loop i v376 v381).OK := fun i v376 v381 k1_hw11 k1_h11 => k1_hw11.1.2.2.2.2.2.1 k1_h11
theorem k1_off86_inb : ∀ (i : grid1.Coords) (v376 : BitVec 32) (v381 : BitVec 32) (k1_hw11 : k1_chk11 i v376 v381) (k1_t22 : Fin (k1_t22_loop i v376 v381).trips), ∀ (k1_h11 : k1_cond11 i v376 v381 = 1#1), ∀ a, (k1_off86 i v376 v381 k1_t22) a + S1x16.size a ≤ S256x128.size a := fun i v376 v381 k1_hw11 k1_t22 k1_h11 => k1_hw11.1.2.2.2.2.2.2.1 k1_t22 k1_h11
theorem k1_off87_inb : ∀ (i : grid1.Coords) (v376 : BitVec 32) (v381 : BitVec 32) (k1_hw11 : k1_chk11 i v376 v381) (k1_t22 : Fin (k1_t22_loop i v376 v381).trips), ∀ (k1_h11 : k1_cond11 i v376 v381 = 1#1), ∀ a, (k1_off87 i v376 v381 k1_t22) a + S1x16.size a ≤ S256x128.size a := fun i v376 v381 k1_hw11 k1_t22 k1_h11 => k1_hw11.1.2.2.2.2.2.2.2.1 k1_t22 k1_h11
theorem k1_off88_inb : ∀ (i : grid1.Coords) (v376 : BitVec 32) (v381 : BitVec 32) (k1_hw11 : k1_chk11 i v376 v381) (k1_t22 : Fin (k1_t22_loop i v376 v381).trips), ∀ (k1_h11 : k1_cond11 i v376 v381 = 1#1), ∀ a, (k1_off88 i v376 v381 k1_t22) a + S1x16.size a ≤ S256x128.size a := fun i v376 v381 k1_hw11 k1_t22 k1_h11 => k1_hw11.1.2.2.2.2.2.2.2.2.1 k1_t22 k1_h11
theorem k1_off89_inb : ∀ (i : grid1.Coords) (v376 : BitVec 32) (v381 : BitVec 32) (k1_hw11 : k1_chk11 i v376 v381) (k1_t22 : Fin (k1_t22_loop i v376 v381).trips), ∀ (k1_h11 : k1_cond11 i v376 v381 = 1#1), ∀ a, (k1_off89 i v376 v381 k1_t22) a + S1x16.size a ≤ S256x128.size a := fun i v376 v381 k1_hw11 k1_t22 k1_h11 => k1_hw11.1.2.2.2.2.2.2.2.2.2.1 k1_t22 k1_h11
theorem k1_t85_ok : ∀ (i : grid1.Coords) (v376 : BitVec 32) (v381 : BitVec 32) (k1_hw11 : k1_chk11 i v376 v381), ∀ (k1_h43 : k1_cond43 i v376 v381 = 1#1), (k1_t85_loop i v376 v381).OK := fun i v376 v381 k1_hw11 k1_h43 => k1_hw11.1.2.2.2.2.2.2.2.2.2.2.1 k1_h43
theorem k1_off339_inb : ∀ (i : grid1.Coords) (v376 : BitVec 32) (v381 : BitVec 32) (k1_hw11 : k1_chk11 i v376 v381) (k1_t85 : Fin (k1_t85_loop i v376 v381).trips), ∀ (k1_h43 : k1_cond43 i v376 v381 = 1#1), ∀ a, (k1_off339 i v376 v381 k1_t85) a + S1x16.size a ≤ S256x128.size a := fun i v376 v381 k1_hw11 k1_t85 k1_h43 => k1_hw11.1.2.2.2.2.2.2.2.2.2.2.2.1 k1_t85 k1_h43
theorem k1_off340_inb : ∀ (i : grid1.Coords) (v376 : BitVec 32) (v381 : BitVec 32) (k1_hw11 : k1_chk11 i v376 v381) (k1_t85 : Fin (k1_t85_loop i v376 v381).trips), ∀ (k1_h43 : k1_cond43 i v376 v381 = 1#1), ∀ a, (k1_off340 i v376 v381 k1_t85) a + S1x16.size a ≤ S256x128.size a := fun i v376 v381 k1_hw11 k1_t85 k1_h43 => k1_hw11.1.2.2.2.2.2.2.2.2.2.2.2.2.1 k1_t85 k1_h43
theorem k1_off341_inb : ∀ (i : grid1.Coords) (v376 : BitVec 32) (v381 : BitVec 32) (k1_hw11 : k1_chk11 i v376 v381) (k1_t85 : Fin (k1_t85_loop i v376 v381).trips), ∀ (k1_h43 : k1_cond43 i v376 v381 = 1#1), ∀ a, (k1_off341 i v376 v381 k1_t85) a + S1x16.size a ≤ S256x128.size a := fun i v376 v381 k1_hw11 k1_t85 k1_h43 => k1_hw11.1.2.2.2.2.2.2.2.2.2.2.2.2.2.1 k1_t85 k1_h43
theorem k1_off342_inb : ∀ (i : grid1.Coords) (v376 : BitVec 32) (v381 : BitVec 32) (k1_hw11 : k1_chk11 i v376 v381) (k1_t85 : Fin (k1_t85_loop i v376 v381).trips), ∀ (k1_h43 : k1_cond43 i v376 v381 = 1#1), ∀ a, (k1_off342 i v376 v381 k1_t85) a + S1x16.size a ≤ S256x128.size a := fun i v376 v381 k1_hw11 k1_t85 k1_h43 => k1_hw11.1.2.2.2.2.2.2.2.2.2.2.2.2.2.2.1 k1_t85 k1_h43
theorem k1_t86_ok : ∀ (i : grid1.Coords) (v376 : BitVec 32) (v381 : BitVec 32) (k1_hw11 : k1_chk11 i v376 v381), ∀ (k1_h43 : k1_cond43 i v376 v381 = 1#1), (k1_t86_loop i v376 v381).OK := fun i v376 v381 k1_hw11 k1_h43 => k1_hw11.1.2.2.2.2.2.2.2.2.2.2.2.2.2.2.2.1 k1_h43
theorem k1_off343_inb : ∀ (i : grid1.Coords) (v376 : BitVec 32) (v381 : BitVec 32) (k1_hw11 : k1_chk11 i v376 v381) (k1_t86 : Fin (k1_t86_loop i v376 v381).trips), ∀ (k1_h43 : k1_cond43 i v376 v381 = 1#1), ∀ a, (k1_off343 i v376 v381 k1_t86) a + S1x16.size a ≤ S256x128.size a := fun i v376 v381 k1_hw11 k1_t86 k1_h43 => k1_hw11.1.2.2.2.2.2.2.2.2.2.2.2.2.2.2.2.2.1 k1_t86 k1_h43
theorem k1_off344_inb : ∀ (i : grid1.Coords) (v376 : BitVec 32) (v381 : BitVec 32) (k1_hw11 : k1_chk11 i v376 v381) (k1_t86 : Fin (k1_t86_loop i v376 v381).trips), ∀ (k1_h43 : k1_cond43 i v376 v381 = 1#1), ∀ a, (k1_off344 i v376 v381 k1_t86) a + S1x16.size a ≤ S256x128.size a := fun i v376 v381 k1_hw11 k1_t86 k1_h43 => k1_hw11.1.2.2.2.2.2.2.2.2.2.2.2.2.2.2.2.2.2.1 k1_t86 k1_h43
theorem k1_off345_inb : ∀ (i : grid1.Coords) (v376 : BitVec 32) (v381 : BitVec 32) (k1_hw11 : k1_chk11 i v376 v381) (k1_t86 : Fin (k1_t86_loop i v376 v381).trips), ∀ (k1_h43 : k1_cond43 i v376 v381 = 1#1), ∀ a, (k1_off345 i v376 v381 k1_t86) a + S1x16.size a ≤ S256x128.size a := fun i v376 v381 k1_hw11 k1_t86 k1_h43 => k1_hw11.1.2.2.2.2.2.2.2.2.2.2.2.2.2.2.2.2.2.2.1 k1_t86 k1_h43
theorem k1_off346_inb : ∀ (i : grid1.Coords) (v376 : BitVec 32) (v381 : BitVec 32) (k1_hw11 : k1_chk11 i v376 v381) (k1_t86 : Fin (k1_t86_loop i v376 v381).trips), ∀ (k1_h43 : k1_cond43 i v376 v381 = 1#1), ∀ a, (k1_off346 i v376 v381 k1_t86) a + S1x16.size a ≤ S256x128.size a := fun i v376 v381 k1_hw11 k1_t86 k1_h43 => k1_hw11.1.2.2.2.2.2.2.2.2.2.2.2.2.2.2.2.2.2.2.2.1 k1_t86 k1_h43
theorem k1_t149_ok : ∀ (i : grid1.Coords) (v376 : BitVec 32) (v381 : BitVec 32) (k1_hw11 : k1_chk11 i v376 v381), ∀ (k1_h75 : k1_cond75 i v376 v381 = 1#1), (k1_t149_loop i v376 v381).OK := fun i v376 v381 k1_hw11 k1_h75 => k1_hw11.1.2.2.2.2.2.2.2.2.2.2.2.2.2.2.2.2.2.2.2.2.1 k1_h75
theorem k1_off595_inb : ∀ (i : grid1.Coords) (v376 : BitVec 32) (v381 : BitVec 32) (k1_hw11 : k1_chk11 i v376 v381) (k1_t149 : Fin (k1_t149_loop i v376 v381).trips), ∀ (k1_h75 : k1_cond75 i v376 v381 = 1#1), ∀ a, (k1_off595 i v376 v381 k1_t149) a + S1x16.size a ≤ S256x128.size a := fun i v376 v381 k1_hw11 k1_t149 k1_h75 => k1_hw11.1.2.2.2.2.2.2.2.2.2.2.2.2.2.2.2.2.2.2.2.2.2.1 k1_t149 k1_h75
theorem k1_off596_inb : ∀ (i : grid1.Coords) (v376 : BitVec 32) (v381 : BitVec 32) (k1_hw11 : k1_chk11 i v376 v381) (k1_t149 : Fin (k1_t149_loop i v376 v381).trips), ∀ (k1_h75 : k1_cond75 i v376 v381 = 1#1), ∀ a, (k1_off596 i v376 v381 k1_t149) a + S1x16.size a ≤ S256x128.size a := fun i v376 v381 k1_hw11 k1_t149 k1_h75 => k1_hw11.1.2.2.2.2.2.2.2.2.2.2.2.2.2.2.2.2.2.2.2.2.2.2.1 k1_t149 k1_h75
theorem k1_off597_inb : ∀ (i : grid1.Coords) (v376 : BitVec 32) (v381 : BitVec 32) (k1_hw11 : k1_chk11 i v376 v381) (k1_t149 : Fin (k1_t149_loop i v376 v381).trips), ∀ (k1_h75 : k1_cond75 i v376 v381 = 1#1), ∀ a, (k1_off597 i v376 v381 k1_t149) a + S1x16.size a ≤ S256x128.size a := fun i v376 v381 k1_hw11 k1_t149 k1_h75 => k1_hw11.1.2.2.2.2.2.2.2.2.2.2.2.2.2.2.2.2.2.2.2.2.2.2.2.1 k1_t149 k1_h75
theorem k1_off598_inb : ∀ (i : grid1.Coords) (v376 : BitVec 32) (v381 : BitVec 32) (k1_hw11 : k1_chk11 i v376 v381) (k1_t149 : Fin (k1_t149_loop i v376 v381).trips), ∀ (k1_h75 : k1_cond75 i v376 v381 = 1#1), ∀ a, (k1_off598 i v376 v381 k1_t149) a + S1x16.size a ≤ S256x128.size a := fun i v376 v381 k1_hw11 k1_t149 k1_h75 => k1_hw11.1.2.2.2.2.2.2.2.2.2.2.2.2.2.2.2.2.2.2.2.2.2.2.2.2.1 k1_t149 k1_h75
theorem k1_t150_ok : ∀ (i : grid1.Coords) (v376 : BitVec 32) (v381 : BitVec 32) (k1_hw11 : k1_chk11 i v376 v381), ∀ (k1_h75 : k1_cond75 i v376 v381 = 1#1), (k1_t150_loop i v376 v381).OK := fun i v376 v381 k1_hw11 k1_h75 => k1_hw11.1.2.2.2.2.2.2.2.2.2.2.2.2.2.2.2.2.2.2.2.2.2.2.2.2.2.1 k1_h75
theorem k1_off599_inb : ∀ (i : grid1.Coords) (v376 : BitVec 32) (v381 : BitVec 32) (k1_hw11 : k1_chk11 i v376 v381) (k1_t150 : Fin (k1_t150_loop i v376 v381).trips), ∀ (k1_h75 : k1_cond75 i v376 v381 = 1#1), ∀ a, (k1_off599 i v376 v381 k1_t150) a + S1x16.size a ≤ S256x128.size a := fun i v376 v381 k1_hw11 k1_t150 k1_h75 => k1_hw11.1.2.2.2.2.2.2.2.2.2.2.2.2.2.2.2.2.2.2.2.2.2.2.2.2.2.2.1 k1_t150 k1_h75
theorem k1_off600_inb : ∀ (i : grid1.Coords) (v376 : BitVec 32) (v381 : BitVec 32) (k1_hw11 : k1_chk11 i v376 v381) (k1_t150 : Fin (k1_t150_loop i v376 v381).trips), ∀ (k1_h75 : k1_cond75 i v376 v381 = 1#1), ∀ a, (k1_off600 i v376 v381 k1_t150) a + S1x16.size a ≤ S256x128.size a := fun i v376 v381 k1_hw11 k1_t150 k1_h75 => k1_hw11.1.2.2.2.2.2.2.2.2.2.2.2.2.2.2.2.2.2.2.2.2.2.2.2.2.2.2.2.1 k1_t150 k1_h75
theorem k1_off601_inb : ∀ (i : grid1.Coords) (v376 : BitVec 32) (v381 : BitVec 32) (k1_hw11 : k1_chk11 i v376 v381) (k1_t150 : Fin (k1_t150_loop i v376 v381).trips), ∀ (k1_h75 : k1_cond75 i v376 v381 = 1#1), ∀ a, (k1_off601 i v376 v381 k1_t150) a + S1x16.size a ≤ S256x128.size a := fun i v376 v381 k1_hw11 k1_t150 k1_h75 => k1_hw11.1.2.2.2.2.2.2.2.2.2.2.2.2.2.2.2.2.2.2.2.2.2.2.2.2.2.2.2.2.1 k1_t150 k1_h75
theorem k1_off602_inb : ∀ (i : grid1.Coords) (v376 : BitVec 32) (v381 : BitVec 32) (k1_hw11 : k1_chk11 i v376 v381) (k1_t150 : Fin (k1_t150_loop i v376 v381).trips), ∀ (k1_h75 : k1_cond75 i v376 v381 = 1#1), ∀ a, (k1_off602 i v376 v381 k1_t150) a + S1x16.size a ≤ S256x128.size a := fun i v376 v381 k1_hw11 k1_t150 k1_h75 => k1_hw11.1.2.2.2.2.2.2.2.2.2.2.2.2.2.2.2.2.2.2.2.2.2.2.2.2.2.2.2.2.2.1 k1_t150 k1_h75
theorem k1_t213_ok : ∀ (i : grid1.Coords) (v376 : BitVec 32) (v381 : BitVec 32) (k1_hw11 : k1_chk11 i v376 v381), ∀ (k1_h107 : k1_cond107 i v376 v381 = 1#1), (k1_t213_loop i v376 v381).OK := fun i v376 v381 k1_hw11 k1_h107 => k1_hw11.1.2.2.2.2.2.2.2.2.2.2.2.2.2.2.2.2.2.2.2.2.2.2.2.2.2.2.2.2.2.2.1 k1_h107
theorem k1_off851_inb : ∀ (i : grid1.Coords) (v376 : BitVec 32) (v381 : BitVec 32) (k1_hw11 : k1_chk11 i v376 v381) (k1_t213 : Fin (k1_t213_loop i v376 v381).trips), ∀ (k1_h107 : k1_cond107 i v376 v381 = 1#1), ∀ a, (k1_off851 i v376 v381 k1_t213) a + S1x16.size a ≤ S256x128.size a := fun i v376 v381 k1_hw11 k1_t213 k1_h107 => k1_hw11.1.2.2.2.2.2.2.2.2.2.2.2.2.2.2.2.2.2.2.2.2.2.2.2.2.2.2.2.2.2.2.2 k1_t213 k1_h107
theorem k1_off852_inb : ∀ (i : grid1.Coords) (v376 : BitVec 32) (v381 : BitVec 32) (k1_hw11 : k1_chk11 i v376 v381) (k1_t213 : Fin (k1_t213_loop i v376 v381).trips), ∀ (k1_h107 : k1_cond107 i v376 v381 = 1#1), ∀ a, (k1_off852 i v376 v381 k1_t213) a + S1x16.size a ≤ S256x128.size a := fun i v376 v381 k1_hw11 k1_t213 k1_h107 => k1_hw11.2.1 k1_t213 k1_h107
theorem k1_off853_inb : ∀ (i : grid1.Coords) (v376 : BitVec 32) (v381 : BitVec 32) (k1_hw11 : k1_chk11 i v376 v381) (k1_t213 : Fin (k1_t213_loop i v376 v381).trips), ∀ (k1_h107 : k1_cond107 i v376 v381 = 1#1), ∀ a, (k1_off853 i v376 v381 k1_t213) a + S1x16.size a ≤ S256x128.size a := fun i v376 v381 k1_hw11 k1_t213 k1_h107 => k1_hw11.2.2.1 k1_t213 k1_h107
theorem k1_off854_inb : ∀ (i : grid1.Coords) (v376 : BitVec 32) (v381 : BitVec 32) (k1_hw11 : k1_chk11 i v376 v381) (k1_t213 : Fin (k1_t213_loop i v376 v381).trips), ∀ (k1_h107 : k1_cond107 i v376 v381 = 1#1), ∀ a, (k1_off854 i v376 v381 k1_t213) a + S1x16.size a ≤ S256x128.size a := fun i v376 v381 k1_hw11 k1_t213 k1_h107 => k1_hw11.2.2.2.1 k1_t213 k1_h107
theorem k1_t214_ok : ∀ (i : grid1.Coords) (v376 : BitVec 32) (v381 : BitVec 32) (k1_hw11 : k1_chk11 i v376 v381), ∀ (k1_h107 : k1_cond107 i v376 v381 = 1#1), (k1_t214_loop i v376 v381).OK := fun i v376 v381 k1_hw11 k1_h107 => k1_hw11.2.2.2.2.1 k1_h107
theorem k1_off855_inb : ∀ (i : grid1.Coords) (v376 : BitVec 32) (v381 : BitVec 32) (k1_hw11 : k1_chk11 i v376 v381) (k1_t214 : Fin (k1_t214_loop i v376 v381).trips), ∀ (k1_h107 : k1_cond107 i v376 v381 = 1#1), ∀ a, (k1_off855 i v376 v381 k1_t214) a + S1x16.size a ≤ S256x128.size a := fun i v376 v381 k1_hw11 k1_t214 k1_h107 => k1_hw11.2.2.2.2.2.1 k1_t214 k1_h107
theorem k1_off856_inb : ∀ (i : grid1.Coords) (v376 : BitVec 32) (v381 : BitVec 32) (k1_hw11 : k1_chk11 i v376 v381) (k1_t214 : Fin (k1_t214_loop i v376 v381).trips), ∀ (k1_h107 : k1_cond107 i v376 v381 = 1#1), ∀ a, (k1_off856 i v376 v381 k1_t214) a + S1x16.size a ≤ S256x128.size a := fun i v376 v381 k1_hw11 k1_t214 k1_h107 => k1_hw11.2.2.2.2.2.2.1 k1_t214 k1_h107
theorem k1_off857_inb : ∀ (i : grid1.Coords) (v376 : BitVec 32) (v381 : BitVec 32) (k1_hw11 : k1_chk11 i v376 v381) (k1_t214 : Fin (k1_t214_loop i v376 v381).trips), ∀ (k1_h107 : k1_cond107 i v376 v381 = 1#1), ∀ a, (k1_off857 i v376 v381 k1_t214) a + S1x16.size a ≤ S256x128.size a := fun i v376 v381 k1_hw11 k1_t214 k1_h107 => k1_hw11.2.2.2.2.2.2.2.1 k1_t214 k1_h107
theorem k1_off858_inb : ∀ (i : grid1.Coords) (v376 : BitVec 32) (v381 : BitVec 32) (k1_hw11 : k1_chk11 i v376 v381) (k1_t214 : Fin (k1_t214_loop i v376 v381).trips), ∀ (k1_h107 : k1_cond107 i v376 v381 = 1#1), ∀ a, (k1_off858 i v376 v381 k1_t214) a + S1x16.size a ≤ S256x128.size a := fun i v376 v381 k1_hw11 k1_t214 k1_h107 => k1_hw11.2.2.2.2.2.2.2.2 k1_t214 k1_h107

@[reducible] def k1_t215_loop (i : grid1.Coords) (v386 : BitVec 32) (v392 : BitVec 32) : Scf.Loop 32 :=
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let c256_i32_1046 : BitVec 32 := 256#32
  let c0_i32_1045 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c768_i32_1044 : BitVec 32 := 768#32
  let v1607 : BitVec 32 := Scalar.subi v396 c768_i32_1044
  let v1608 : BitVec 32 := Scalar.maxsi c0_i32_1045 v1607
  let v1609 : BitVec 32 := Scalar.minsi c256_i32_1046 v1608
  let v1805 : BitVec 32 := Scalar.subi v1609 v1606
  let c1_i32_1196 : BitVec 32 := 1#32
  let v1807 : BitVec 32 := Scalar.divsi v1805 c1_i32_1196
  let v1808 : BitVec 32 := Scalar.muli v1807 c1_i32_1196
  let v1809 : BitVec 32 := Scalar.addi v1606 v1808
  let c1_i32_1197 : BitVec 32 := 1#32
  ⟨v1606, v1809, c1_i32_1197⟩
def k1_cond108 (i : grid1.Coords) (v386 : BitVec 32) (v392 : BitVec 32) : BitVec 1 :=
  let c256_i32_1046 : BitVec 32 := 256#32
  let c0_i32_1045 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v394 : BitVec 32 := Scalar.subi v393 v3
  let v395 : BitVec 32 := Scalar.maxsi c0_i32_169 v394
  let v396 : BitVec 32 := Scalar.minsi c1024_i32_170 v395
  let c768_i32_1044 : BitVec 32 := 768#32
  let v1607 : BitVec 32 := Scalar.subi v396 c768_i32_1044
  let v1608 : BitVec 32 := Scalar.maxsi c0_i32_1045 v1607
  let v1609 : BitVec 32 := Scalar.minsi c256_i32_1046 v1608
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let v1610 : BitVec 1 := Scalar.cmpi .sgt v1609 v1606
  let v1611 : BitVec 32 := Scalar.extui v1610
  let c0_i32_1047 : BitVec 32 := 0#32
  let v1612 : BitVec 1 := Scalar.cmpi .ne v1611 c0_i32_1047
  v1612

def k1_off859 (i : grid1.Coords) (v386 : BitVec 32) (v392 : BitVec 32) (k1_t215 : Fin (k1_t215_loop i v386 v392).trips) : Fin 2 → Nat :=
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let c1_i32_1197 : BitVec 32 := 1#32
  let arg13 : BitVec 32 := Scf.iv v1606 c1_i32_1197 k1_t215
  let v1828 : Index := Scalar.indexCast arg13
  let c64 : Index := 64#32
  ![v1828.toNat, 64]
def k1_off860 (i : grid1.Coords) (v386 : BitVec 32) (v392 : BitVec 32) (k1_t215 : Fin (k1_t215_loop i v386 v392).trips) : Fin 2 → Nat :=
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let c1_i32_1197 : BitVec 32 := 1#32
  let arg13 : BitVec 32 := Scf.iv v1606 c1_i32_1197 k1_t215
  let v1832 : Index := Scalar.indexCast arg13
  let c80 : Index := 80#32
  ![v1832.toNat, 80]
def k1_off861 (i : grid1.Coords) (v386 : BitVec 32) (v392 : BitVec 32) (k1_t215 : Fin (k1_t215_loop i v386 v392).trips) : Fin 2 → Nat :=
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let c1_i32_1197 : BitVec 32 := 1#32
  let arg13 : BitVec 32 := Scf.iv v1606 c1_i32_1197 k1_t215
  let v1836 : Index := Scalar.indexCast arg13
  let c96 : Index := 96#32
  ![v1836.toNat, 96]
def k1_off862 (i : grid1.Coords) (v386 : BitVec 32) (v392 : BitVec 32) (k1_t215 : Fin (k1_t215_loop i v386 v392).trips) : Fin 2 → Nat :=
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let c1_i32_1197 : BitVec 32 := 1#32
  let arg13 : BitVec 32 := Scf.iv v1606 c1_i32_1197 k1_t215
  let v1840 : Index := Scalar.indexCast arg13
  let c112 : Index := 112#32
  ![v1840.toNat, 112]
@[reducible] def k1_t216_loop (i : grid1.Coords) (v386 : BitVec 32) (v392 : BitVec 32) : Scf.Loop 32 :=
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let c256_i32_1046 : BitVec 32 := 256#32
  let c0_i32_1045 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c768_i32_1044 : BitVec 32 := 768#32
  let v1607 : BitVec 32 := Scalar.subi v396 c768_i32_1044
  let v1608 : BitVec 32 := Scalar.maxsi c0_i32_1045 v1607
  let v1609 : BitVec 32 := Scalar.minsi c256_i32_1046 v1608
  let v1805 : BitVec 32 := Scalar.subi v1609 v1606
  let c1_i32_1196 : BitVec 32 := 1#32
  let v1807 : BitVec 32 := Scalar.divsi v1805 c1_i32_1196
  let v1808 : BitVec 32 := Scalar.muli v1807 c1_i32_1196
  let v1809 : BitVec 32 := Scalar.addi v1606 v1808
  let v1806 : BitVec 32 := Scalar.addi v1606 v1805
  let c1_i32_1198 : BitVec 32 := 1#32
  ⟨v1809, v1806, c1_i32_1198⟩
def k1_off863 (i : grid1.Coords) (v386 : BitVec 32) (v392 : BitVec 32) (k1_t216 : Fin (k1_t216_loop i v386 v392).trips) : Fin 2 → Nat :=
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let c256_i32_1046 : BitVec 32 := 256#32
  let c0_i32_1045 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c768_i32_1044 : BitVec 32 := 768#32
  let v1607 : BitVec 32 := Scalar.subi v396 c768_i32_1044
  let v1608 : BitVec 32 := Scalar.maxsi c0_i32_1045 v1607
  let v1609 : BitVec 32 := Scalar.minsi c256_i32_1046 v1608
  let v1805 : BitVec 32 := Scalar.subi v1609 v1606
  let c1_i32_1196 : BitVec 32 := 1#32
  let v1807 : BitVec 32 := Scalar.divsi v1805 c1_i32_1196
  let v1808 : BitVec 32 := Scalar.muli v1807 c1_i32_1196
  let v1809 : BitVec 32 := Scalar.addi v1606 v1808
  let c1_i32_1198 : BitVec 32 := 1#32
  let arg13 : BitVec 32 := Scf.iv v1809 c1_i32_1198 k1_t216
  let v1828 : Index := Scalar.indexCast arg13
  let c64 : Index := 64#32
  ![v1828.toNat, 64]
def k1_off864 (i : grid1.Coords) (v386 : BitVec 32) (v392 : BitVec 32) (k1_t216 : Fin (k1_t216_loop i v386 v392).trips) : Fin 2 → Nat :=
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let c256_i32_1046 : BitVec 32 := 256#32
  let c0_i32_1045 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c768_i32_1044 : BitVec 32 := 768#32
  let v1607 : BitVec 32 := Scalar.subi v396 c768_i32_1044
  let v1608 : BitVec 32 := Scalar.maxsi c0_i32_1045 v1607
  let v1609 : BitVec 32 := Scalar.minsi c256_i32_1046 v1608
  let v1805 : BitVec 32 := Scalar.subi v1609 v1606
  let c1_i32_1196 : BitVec 32 := 1#32
  let v1807 : BitVec 32 := Scalar.divsi v1805 c1_i32_1196
  let v1808 : BitVec 32 := Scalar.muli v1807 c1_i32_1196
  let v1809 : BitVec 32 := Scalar.addi v1606 v1808
  let c1_i32_1198 : BitVec 32 := 1#32
  let arg13 : BitVec 32 := Scf.iv v1809 c1_i32_1198 k1_t216
  let v1832 : Index := Scalar.indexCast arg13
  let c80 : Index := 80#32
  ![v1832.toNat, 80]
def k1_off865 (i : grid1.Coords) (v386 : BitVec 32) (v392 : BitVec 32) (k1_t216 : Fin (k1_t216_loop i v386 v392).trips) : Fin 2 → Nat :=
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let c256_i32_1046 : BitVec 32 := 256#32
  let c0_i32_1045 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c768_i32_1044 : BitVec 32 := 768#32
  let v1607 : BitVec 32 := Scalar.subi v396 c768_i32_1044
  let v1608 : BitVec 32 := Scalar.maxsi c0_i32_1045 v1607
  let v1609 : BitVec 32 := Scalar.minsi c256_i32_1046 v1608
  let v1805 : BitVec 32 := Scalar.subi v1609 v1606
  let c1_i32_1196 : BitVec 32 := 1#32
  let v1807 : BitVec 32 := Scalar.divsi v1805 c1_i32_1196
  let v1808 : BitVec 32 := Scalar.muli v1807 c1_i32_1196
  let v1809 : BitVec 32 := Scalar.addi v1606 v1808
  let c1_i32_1198 : BitVec 32 := 1#32
  let arg13 : BitVec 32 := Scf.iv v1809 c1_i32_1198 k1_t216
  let v1836 : Index := Scalar.indexCast arg13
  let c96 : Index := 96#32
  ![v1836.toNat, 96]
def k1_off866 (i : grid1.Coords) (v386 : BitVec 32) (v392 : BitVec 32) (k1_t216 : Fin (k1_t216_loop i v386 v392).trips) : Fin 2 → Nat :=
  let c256_i32_1043 : BitVec 32 := 256#32
  let c0_i32_1042 : BitVec 32 := 0#32
  let c1024_i32_167 : BitVec 32 := 1024#32
  let c0_i32_166 : BitVec 32 := 0#32
  let c65536_i32_165 : BitVec 32 := 65536#32
  let v387 : BitVec 32 := Scalar.subi v386 c65536_i32_165
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v388 : BitVec 32 := Scalar.subi v387 v3
  let v389 : BitVec 32 := Scalar.maxsi c0_i32_166 v388
  let v390 : BitVec 32 := Scalar.minsi c1024_i32_167 v389
  let c768_i32_1041 : BitVec 32 := 768#32
  let v1604 : BitVec 32 := Scalar.subi v390 c768_i32_1041
  let v1605 : BitVec 32 := Scalar.maxsi c0_i32_1042 v1604
  let v1606 : BitVec 32 := Scalar.minsi c256_i32_1043 v1605
  let c256_i32_1046 : BitVec 32 := 256#32
  let c0_i32_1045 : BitVec 32 := 0#32
  let c1024_i32_170 : BitVec 32 := 1024#32
  let c0_i32_169 : BitVec 32 := 0#32
  let c65536_i32_168 : BitVec 32 := 65536#32
  let v393 : BitVec 32 := Scalar.subi v392 c65536_i32_168
  let v394 : BitVec 32 := Scalar.subi v393 v3
  let v395 : BitVec 32 := Scalar.maxsi c0_i32_169 v394
  let v396 : BitVec 32 := Scalar.minsi c1024_i32_170 v395
  let c768_i32_1044 : BitVec 32 := 768#32
  let v1607 : BitVec 32 := Scalar.subi v396 c768_i32_1044
  let v1608 : BitVec 32 := Scalar.maxsi c0_i32_1045 v1607
  let v1609 : BitVec 32 := Scalar.minsi c256_i32_1046 v1608
  let v1805 : BitVec 32 := Scalar.subi v1609 v1606
  let c1_i32_1196 : BitVec 32 := 1#32
  let v1807 : BitVec 32 := Scalar.divsi v1805 c1_i32_1196
  let v1808 : BitVec 32 := Scalar.muli v1807 c1_i32_1196
  let v1809 : BitVec 32 := Scalar.addi v1606 v1808
  let c1_i32_1198 : BitVec 32 := 1#32
  let arg13 : BitVec 32 := Scf.iv v1809 c1_i32_1198 k1_t216
  let v1840 : Index := Scalar.indexCast arg13
  let c112 : Index := 112#32
  ![v1840.toNat, 112]

def k1_chk12_0 (i : grid1.Coords) (v386 : BitVec 32) (v392 : BitVec 32) : Prop :=
  (∀ (k1_h12 : k1_cond12 i v386 v392 = 1#1), (k1_t23_loop i v386 v392).OK) ∧
  (∀ k1_t23 : Fin (k1_t23_loop i v386 v392).trips, ∀ (k1_h12 : k1_cond12 i v386 v392 = 1#1), ∀ a, (k1_off90 i v386 v392 k1_t23) a + S1x16.size a ≤ S256x128.size a) ∧
  (∀ k1_t23 : Fin (k1_t23_loop i v386 v392).trips, ∀ (k1_h12 : k1_cond12 i v386 v392 = 1#1), ∀ a, (k1_off91 i v386 v392 k1_t23) a + S1x16.size a ≤ S256x128.size a) ∧
  (∀ k1_t23 : Fin (k1_t23_loop i v386 v392).trips, ∀ (k1_h12 : k1_cond12 i v386 v392 = 1#1), ∀ a, (k1_off92 i v386 v392 k1_t23) a + S1x16.size a ≤ S256x128.size a) ∧
  (∀ k1_t23 : Fin (k1_t23_loop i v386 v392).trips, ∀ (k1_h12 : k1_cond12 i v386 v392 = 1#1), ∀ a, (k1_off93 i v386 v392 k1_t23) a + S1x16.size a ≤ S256x128.size a) ∧
  (∀ (k1_h12 : k1_cond12 i v386 v392 = 1#1), (k1_t24_loop i v386 v392).OK) ∧
  (∀ k1_t24 : Fin (k1_t24_loop i v386 v392).trips, ∀ (k1_h12 : k1_cond12 i v386 v392 = 1#1), ∀ a, (k1_off94 i v386 v392 k1_t24) a + S1x16.size a ≤ S256x128.size a) ∧
  (∀ k1_t24 : Fin (k1_t24_loop i v386 v392).trips, ∀ (k1_h12 : k1_cond12 i v386 v392 = 1#1), ∀ a, (k1_off95 i v386 v392 k1_t24) a + S1x16.size a ≤ S256x128.size a) ∧
  (∀ k1_t24 : Fin (k1_t24_loop i v386 v392).trips, ∀ (k1_h12 : k1_cond12 i v386 v392 = 1#1), ∀ a, (k1_off96 i v386 v392 k1_t24) a + S1x16.size a ≤ S256x128.size a) ∧
  (∀ k1_t24 : Fin (k1_t24_loop i v386 v392).trips, ∀ (k1_h12 : k1_cond12 i v386 v392 = 1#1), ∀ a, (k1_off97 i v386 v392 k1_t24) a + S1x16.size a ≤ S256x128.size a) ∧
  (∀ (k1_h44 : k1_cond44 i v386 v392 = 1#1), (k1_t87_loop i v386 v392).OK) ∧
  (∀ k1_t87 : Fin (k1_t87_loop i v386 v392).trips, ∀ (k1_h44 : k1_cond44 i v386 v392 = 1#1), ∀ a, (k1_off347 i v386 v392 k1_t87) a + S1x16.size a ≤ S256x128.size a) ∧
  (∀ k1_t87 : Fin (k1_t87_loop i v386 v392).trips, ∀ (k1_h44 : k1_cond44 i v386 v392 = 1#1), ∀ a, (k1_off348 i v386 v392 k1_t87) a + S1x16.size a ≤ S256x128.size a) ∧
  (∀ k1_t87 : Fin (k1_t87_loop i v386 v392).trips, ∀ (k1_h44 : k1_cond44 i v386 v392 = 1#1), ∀ a, (k1_off349 i v386 v392 k1_t87) a + S1x16.size a ≤ S256x128.size a) ∧
  (∀ k1_t87 : Fin (k1_t87_loop i v386 v392).trips, ∀ (k1_h44 : k1_cond44 i v386 v392 = 1#1), ∀ a, (k1_off350 i v386 v392 k1_t87) a + S1x16.size a ≤ S256x128.size a) ∧
  (∀ (k1_h44 : k1_cond44 i v386 v392 = 1#1), (k1_t88_loop i v386 v392).OK) ∧
  (∀ k1_t88 : Fin (k1_t88_loop i v386 v392).trips, ∀ (k1_h44 : k1_cond44 i v386 v392 = 1#1), ∀ a, (k1_off351 i v386 v392 k1_t88) a + S1x16.size a ≤ S256x128.size a) ∧
  (∀ k1_t88 : Fin (k1_t88_loop i v386 v392).trips, ∀ (k1_h44 : k1_cond44 i v386 v392 = 1#1), ∀ a, (k1_off352 i v386 v392 k1_t88) a + S1x16.size a ≤ S256x128.size a) ∧
  (∀ k1_t88 : Fin (k1_t88_loop i v386 v392).trips, ∀ (k1_h44 : k1_cond44 i v386 v392 = 1#1), ∀ a, (k1_off353 i v386 v392 k1_t88) a + S1x16.size a ≤ S256x128.size a) ∧
  (∀ k1_t88 : Fin (k1_t88_loop i v386 v392).trips, ∀ (k1_h44 : k1_cond44 i v386 v392 = 1#1), ∀ a, (k1_off354 i v386 v392 k1_t88) a + S1x16.size a ≤ S256x128.size a) ∧
  (∀ (k1_h76 : k1_cond76 i v386 v392 = 1#1), (k1_t151_loop i v386 v392).OK) ∧
  (∀ k1_t151 : Fin (k1_t151_loop i v386 v392).trips, ∀ (k1_h76 : k1_cond76 i v386 v392 = 1#1), ∀ a, (k1_off603 i v386 v392 k1_t151) a + S1x16.size a ≤ S256x128.size a) ∧
  (∀ k1_t151 : Fin (k1_t151_loop i v386 v392).trips, ∀ (k1_h76 : k1_cond76 i v386 v392 = 1#1), ∀ a, (k1_off604 i v386 v392 k1_t151) a + S1x16.size a ≤ S256x128.size a) ∧
  (∀ k1_t151 : Fin (k1_t151_loop i v386 v392).trips, ∀ (k1_h76 : k1_cond76 i v386 v392 = 1#1), ∀ a, (k1_off605 i v386 v392 k1_t151) a + S1x16.size a ≤ S256x128.size a) ∧
  (∀ k1_t151 : Fin (k1_t151_loop i v386 v392).trips, ∀ (k1_h76 : k1_cond76 i v386 v392 = 1#1), ∀ a, (k1_off606 i v386 v392 k1_t151) a + S1x16.size a ≤ S256x128.size a) ∧
  (∀ (k1_h76 : k1_cond76 i v386 v392 = 1#1), (k1_t152_loop i v386 v392).OK) ∧
  (∀ k1_t152 : Fin (k1_t152_loop i v386 v392).trips, ∀ (k1_h76 : k1_cond76 i v386 v392 = 1#1), ∀ a, (k1_off607 i v386 v392 k1_t152) a + S1x16.size a ≤ S256x128.size a) ∧
  (∀ k1_t152 : Fin (k1_t152_loop i v386 v392).trips, ∀ (k1_h76 : k1_cond76 i v386 v392 = 1#1), ∀ a, (k1_off608 i v386 v392 k1_t152) a + S1x16.size a ≤ S256x128.size a) ∧
  (∀ k1_t152 : Fin (k1_t152_loop i v386 v392).trips, ∀ (k1_h76 : k1_cond76 i v386 v392 = 1#1), ∀ a, (k1_off609 i v386 v392 k1_t152) a + S1x16.size a ≤ S256x128.size a) ∧
  (∀ k1_t152 : Fin (k1_t152_loop i v386 v392).trips, ∀ (k1_h76 : k1_cond76 i v386 v392 = 1#1), ∀ a, (k1_off610 i v386 v392 k1_t152) a + S1x16.size a ≤ S256x128.size a) ∧
  (∀ (k1_h108 : k1_cond108 i v386 v392 = 1#1), (k1_t215_loop i v386 v392).OK) ∧
  (∀ k1_t215 : Fin (k1_t215_loop i v386 v392).trips, ∀ (k1_h108 : k1_cond108 i v386 v392 = 1#1), ∀ a, (k1_off859 i v386 v392 k1_t215) a + S1x16.size a ≤ S256x128.size a)
def k1_chk12_1 (i : grid1.Coords) (v386 : BitVec 32) (v392 : BitVec 32) : Prop :=
  (∀ k1_t215 : Fin (k1_t215_loop i v386 v392).trips, ∀ (k1_h108 : k1_cond108 i v386 v392 = 1#1), ∀ a, (k1_off860 i v386 v392 k1_t215) a + S1x16.size a ≤ S256x128.size a) ∧
  (∀ k1_t215 : Fin (k1_t215_loop i v386 v392).trips, ∀ (k1_h108 : k1_cond108 i v386 v392 = 1#1), ∀ a, (k1_off861 i v386 v392 k1_t215) a + S1x16.size a ≤ S256x128.size a) ∧
  (∀ k1_t215 : Fin (k1_t215_loop i v386 v392).trips, ∀ (k1_h108 : k1_cond108 i v386 v392 = 1#1), ∀ a, (k1_off862 i v386 v392 k1_t215) a + S1x16.size a ≤ S256x128.size a) ∧
  (∀ (k1_h108 : k1_cond108 i v386 v392 = 1#1), (k1_t216_loop i v386 v392).OK) ∧
  (∀ k1_t216 : Fin (k1_t216_loop i v386 v392).trips, ∀ (k1_h108 : k1_cond108 i v386 v392 = 1#1), ∀ a, (k1_off863 i v386 v392 k1_t216) a + S1x16.size a ≤ S256x128.size a) ∧
  (∀ k1_t216 : Fin (k1_t216_loop i v386 v392).trips, ∀ (k1_h108 : k1_cond108 i v386 v392 = 1#1), ∀ a, (k1_off864 i v386 v392 k1_t216) a + S1x16.size a ≤ S256x128.size a) ∧
  (∀ k1_t216 : Fin (k1_t216_loop i v386 v392).trips, ∀ (k1_h108 : k1_cond108 i v386 v392 = 1#1), ∀ a, (k1_off865 i v386 v392 k1_t216) a + S1x16.size a ≤ S256x128.size a) ∧
  (∀ k1_t216 : Fin (k1_t216_loop i v386 v392).trips, ∀ (k1_h108 : k1_cond108 i v386 v392 = 1#1), ∀ a, (k1_off866 i v386 v392 k1_t216) a + S1x16.size a ≤ S256x128.size a)
def k1_chk12 (i : grid1.Coords) (v386 : BitVec 32) (v392 : BitVec 32) : Prop :=
  k1_chk12_0 i v386 v392 ∧
  k1_chk12_1 i v386 v392
theorem k1_t23_ok : ∀ (i : grid1.Coords) (v386 : BitVec 32) (v392 : BitVec 32) (k1_hw12 : k1_chk12 i v386 v392), ∀ (k1_h12 : k1_cond12 i v386 v392 = 1#1), (k1_t23_loop i v386 v392).OK := fun i v386 v392 k1_hw12 k1_h12 => k1_hw12.1.1 k1_h12
theorem k1_off90_inb : ∀ (i : grid1.Coords) (v386 : BitVec 32) (v392 : BitVec 32) (k1_hw12 : k1_chk12 i v386 v392) (k1_t23 : Fin (k1_t23_loop i v386 v392).trips), ∀ (k1_h12 : k1_cond12 i v386 v392 = 1#1), ∀ a, (k1_off90 i v386 v392 k1_t23) a + S1x16.size a ≤ S256x128.size a := fun i v386 v392 k1_hw12 k1_t23 k1_h12 => k1_hw12.1.2.1 k1_t23 k1_h12
theorem k1_off91_inb : ∀ (i : grid1.Coords) (v386 : BitVec 32) (v392 : BitVec 32) (k1_hw12 : k1_chk12 i v386 v392) (k1_t23 : Fin (k1_t23_loop i v386 v392).trips), ∀ (k1_h12 : k1_cond12 i v386 v392 = 1#1), ∀ a, (k1_off91 i v386 v392 k1_t23) a + S1x16.size a ≤ S256x128.size a := fun i v386 v392 k1_hw12 k1_t23 k1_h12 => k1_hw12.1.2.2.1 k1_t23 k1_h12
theorem k1_off92_inb : ∀ (i : grid1.Coords) (v386 : BitVec 32) (v392 : BitVec 32) (k1_hw12 : k1_chk12 i v386 v392) (k1_t23 : Fin (k1_t23_loop i v386 v392).trips), ∀ (k1_h12 : k1_cond12 i v386 v392 = 1#1), ∀ a, (k1_off92 i v386 v392 k1_t23) a + S1x16.size a ≤ S256x128.size a := fun i v386 v392 k1_hw12 k1_t23 k1_h12 => k1_hw12.1.2.2.2.1 k1_t23 k1_h12
theorem k1_off93_inb : ∀ (i : grid1.Coords) (v386 : BitVec 32) (v392 : BitVec 32) (k1_hw12 : k1_chk12 i v386 v392) (k1_t23 : Fin (k1_t23_loop i v386 v392).trips), ∀ (k1_h12 : k1_cond12 i v386 v392 = 1#1), ∀ a, (k1_off93 i v386 v392 k1_t23) a + S1x16.size a ≤ S256x128.size a := fun i v386 v392 k1_hw12 k1_t23 k1_h12 => k1_hw12.1.2.2.2.2.1 k1_t23 k1_h12
theorem k1_t24_ok : ∀ (i : grid1.Coords) (v386 : BitVec 32) (v392 : BitVec 32) (k1_hw12 : k1_chk12 i v386 v392), ∀ (k1_h12 : k1_cond12 i v386 v392 = 1#1), (k1_t24_loop i v386 v392).OK := fun i v386 v392 k1_hw12 k1_h12 => k1_hw12.1.2.2.2.2.2.1 k1_h12
theorem k1_off94_inb : ∀ (i : grid1.Coords) (v386 : BitVec 32) (v392 : BitVec 32) (k1_hw12 : k1_chk12 i v386 v392) (k1_t24 : Fin (k1_t24_loop i v386 v392).trips), ∀ (k1_h12 : k1_cond12 i v386 v392 = 1#1), ∀ a, (k1_off94 i v386 v392 k1_t24) a + S1x16.size a ≤ S256x128.size a := fun i v386 v392 k1_hw12 k1_t24 k1_h12 => k1_hw12.1.2.2.2.2.2.2.1 k1_t24 k1_h12
theorem k1_off95_inb : ∀ (i : grid1.Coords) (v386 : BitVec 32) (v392 : BitVec 32) (k1_hw12 : k1_chk12 i v386 v392) (k1_t24 : Fin (k1_t24_loop i v386 v392).trips), ∀ (k1_h12 : k1_cond12 i v386 v392 = 1#1), ∀ a, (k1_off95 i v386 v392 k1_t24) a + S1x16.size a ≤ S256x128.size a := fun i v386 v392 k1_hw12 k1_t24 k1_h12 => k1_hw12.1.2.2.2.2.2.2.2.1 k1_t24 k1_h12
theorem k1_off96_inb : ∀ (i : grid1.Coords) (v386 : BitVec 32) (v392 : BitVec 32) (k1_hw12 : k1_chk12 i v386 v392) (k1_t24 : Fin (k1_t24_loop i v386 v392).trips), ∀ (k1_h12 : k1_cond12 i v386 v392 = 1#1), ∀ a, (k1_off96 i v386 v392 k1_t24) a + S1x16.size a ≤ S256x128.size a := fun i v386 v392 k1_hw12 k1_t24 k1_h12 => k1_hw12.1.2.2.2.2.2.2.2.2.1 k1_t24 k1_h12
theorem k1_off97_inb : ∀ (i : grid1.Coords) (v386 : BitVec 32) (v392 : BitVec 32) (k1_hw12 : k1_chk12 i v386 v392) (k1_t24 : Fin (k1_t24_loop i v386 v392).trips), ∀ (k1_h12 : k1_cond12 i v386 v392 = 1#1), ∀ a, (k1_off97 i v386 v392 k1_t24) a + S1x16.size a ≤ S256x128.size a := fun i v386 v392 k1_hw12 k1_t24 k1_h12 => k1_hw12.1.2.2.2.2.2.2.2.2.2.1 k1_t24 k1_h12
theorem k1_t87_ok : ∀ (i : grid1.Coords) (v386 : BitVec 32) (v392 : BitVec 32) (k1_hw12 : k1_chk12 i v386 v392), ∀ (k1_h44 : k1_cond44 i v386 v392 = 1#1), (k1_t87_loop i v386 v392).OK := fun i v386 v392 k1_hw12 k1_h44 => k1_hw12.1.2.2.2.2.2.2.2.2.2.2.1 k1_h44
theorem k1_off347_inb : ∀ (i : grid1.Coords) (v386 : BitVec 32) (v392 : BitVec 32) (k1_hw12 : k1_chk12 i v386 v392) (k1_t87 : Fin (k1_t87_loop i v386 v392).trips), ∀ (k1_h44 : k1_cond44 i v386 v392 = 1#1), ∀ a, (k1_off347 i v386 v392 k1_t87) a + S1x16.size a ≤ S256x128.size a := fun i v386 v392 k1_hw12 k1_t87 k1_h44 => k1_hw12.1.2.2.2.2.2.2.2.2.2.2.2.1 k1_t87 k1_h44
theorem k1_off348_inb : ∀ (i : grid1.Coords) (v386 : BitVec 32) (v392 : BitVec 32) (k1_hw12 : k1_chk12 i v386 v392) (k1_t87 : Fin (k1_t87_loop i v386 v392).trips), ∀ (k1_h44 : k1_cond44 i v386 v392 = 1#1), ∀ a, (k1_off348 i v386 v392 k1_t87) a + S1x16.size a ≤ S256x128.size a := fun i v386 v392 k1_hw12 k1_t87 k1_h44 => k1_hw12.1.2.2.2.2.2.2.2.2.2.2.2.2.1 k1_t87 k1_h44
theorem k1_off349_inb : ∀ (i : grid1.Coords) (v386 : BitVec 32) (v392 : BitVec 32) (k1_hw12 : k1_chk12 i v386 v392) (k1_t87 : Fin (k1_t87_loop i v386 v392).trips), ∀ (k1_h44 : k1_cond44 i v386 v392 = 1#1), ∀ a, (k1_off349 i v386 v392 k1_t87) a + S1x16.size a ≤ S256x128.size a := fun i v386 v392 k1_hw12 k1_t87 k1_h44 => k1_hw12.1.2.2.2.2.2.2.2.2.2.2.2.2.2.1 k1_t87 k1_h44
theorem k1_off350_inb : ∀ (i : grid1.Coords) (v386 : BitVec 32) (v392 : BitVec 32) (k1_hw12 : k1_chk12 i v386 v392) (k1_t87 : Fin (k1_t87_loop i v386 v392).trips), ∀ (k1_h44 : k1_cond44 i v386 v392 = 1#1), ∀ a, (k1_off350 i v386 v392 k1_t87) a + S1x16.size a ≤ S256x128.size a := fun i v386 v392 k1_hw12 k1_t87 k1_h44 => k1_hw12.1.2.2.2.2.2.2.2.2.2.2.2.2.2.2.1 k1_t87 k1_h44
theorem k1_t88_ok : ∀ (i : grid1.Coords) (v386 : BitVec 32) (v392 : BitVec 32) (k1_hw12 : k1_chk12 i v386 v392), ∀ (k1_h44 : k1_cond44 i v386 v392 = 1#1), (k1_t88_loop i v386 v392).OK := fun i v386 v392 k1_hw12 k1_h44 => k1_hw12.1.2.2.2.2.2.2.2.2.2.2.2.2.2.2.2.1 k1_h44
theorem k1_off351_inb : ∀ (i : grid1.Coords) (v386 : BitVec 32) (v392 : BitVec 32) (k1_hw12 : k1_chk12 i v386 v392) (k1_t88 : Fin (k1_t88_loop i v386 v392).trips), ∀ (k1_h44 : k1_cond44 i v386 v392 = 1#1), ∀ a, (k1_off351 i v386 v392 k1_t88) a + S1x16.size a ≤ S256x128.size a := fun i v386 v392 k1_hw12 k1_t88 k1_h44 => k1_hw12.1.2.2.2.2.2.2.2.2.2.2.2.2.2.2.2.2.1 k1_t88 k1_h44
theorem k1_off352_inb : ∀ (i : grid1.Coords) (v386 : BitVec 32) (v392 : BitVec 32) (k1_hw12 : k1_chk12 i v386 v392) (k1_t88 : Fin (k1_t88_loop i v386 v392).trips), ∀ (k1_h44 : k1_cond44 i v386 v392 = 1#1), ∀ a, (k1_off352 i v386 v392 k1_t88) a + S1x16.size a ≤ S256x128.size a := fun i v386 v392 k1_hw12 k1_t88 k1_h44 => k1_hw12.1.2.2.2.2.2.2.2.2.2.2.2.2.2.2.2.2.2.1 k1_t88 k1_h44
theorem k1_off353_inb : ∀ (i : grid1.Coords) (v386 : BitVec 32) (v392 : BitVec 32) (k1_hw12 : k1_chk12 i v386 v392) (k1_t88 : Fin (k1_t88_loop i v386 v392).trips), ∀ (k1_h44 : k1_cond44 i v386 v392 = 1#1), ∀ a, (k1_off353 i v386 v392 k1_t88) a + S1x16.size a ≤ S256x128.size a := fun i v386 v392 k1_hw12 k1_t88 k1_h44 => k1_hw12.1.2.2.2.2.2.2.2.2.2.2.2.2.2.2.2.2.2.2.1 k1_t88 k1_h44
theorem k1_off354_inb : ∀ (i : grid1.Coords) (v386 : BitVec 32) (v392 : BitVec 32) (k1_hw12 : k1_chk12 i v386 v392) (k1_t88 : Fin (k1_t88_loop i v386 v392).trips), ∀ (k1_h44 : k1_cond44 i v386 v392 = 1#1), ∀ a, (k1_off354 i v386 v392 k1_t88) a + S1x16.size a ≤ S256x128.size a := fun i v386 v392 k1_hw12 k1_t88 k1_h44 => k1_hw12.1.2.2.2.2.2.2.2.2.2.2.2.2.2.2.2.2.2.2.2.1 k1_t88 k1_h44
theorem k1_t151_ok : ∀ (i : grid1.Coords) (v386 : BitVec 32) (v392 : BitVec 32) (k1_hw12 : k1_chk12 i v386 v392), ∀ (k1_h76 : k1_cond76 i v386 v392 = 1#1), (k1_t151_loop i v386 v392).OK := fun i v386 v392 k1_hw12 k1_h76 => k1_hw12.1.2.2.2.2.2.2.2.2.2.2.2.2.2.2.2.2.2.2.2.2.1 k1_h76
theorem k1_off603_inb : ∀ (i : grid1.Coords) (v386 : BitVec 32) (v392 : BitVec 32) (k1_hw12 : k1_chk12 i v386 v392) (k1_t151 : Fin (k1_t151_loop i v386 v392).trips), ∀ (k1_h76 : k1_cond76 i v386 v392 = 1#1), ∀ a, (k1_off603 i v386 v392 k1_t151) a + S1x16.size a ≤ S256x128.size a := fun i v386 v392 k1_hw12 k1_t151 k1_h76 => k1_hw12.1.2.2.2.2.2.2.2.2.2.2.2.2.2.2.2.2.2.2.2.2.2.1 k1_t151 k1_h76
theorem k1_off604_inb : ∀ (i : grid1.Coords) (v386 : BitVec 32) (v392 : BitVec 32) (k1_hw12 : k1_chk12 i v386 v392) (k1_t151 : Fin (k1_t151_loop i v386 v392).trips), ∀ (k1_h76 : k1_cond76 i v386 v392 = 1#1), ∀ a, (k1_off604 i v386 v392 k1_t151) a + S1x16.size a ≤ S256x128.size a := fun i v386 v392 k1_hw12 k1_t151 k1_h76 => k1_hw12.1.2.2.2.2.2.2.2.2.2.2.2.2.2.2.2.2.2.2.2.2.2.2.1 k1_t151 k1_h76
theorem k1_off605_inb : ∀ (i : grid1.Coords) (v386 : BitVec 32) (v392 : BitVec 32) (k1_hw12 : k1_chk12 i v386 v392) (k1_t151 : Fin (k1_t151_loop i v386 v392).trips), ∀ (k1_h76 : k1_cond76 i v386 v392 = 1#1), ∀ a, (k1_off605 i v386 v392 k1_t151) a + S1x16.size a ≤ S256x128.size a := fun i v386 v392 k1_hw12 k1_t151 k1_h76 => k1_hw12.1.2.2.2.2.2.2.2.2.2.2.2.2.2.2.2.2.2.2.2.2.2.2.2.1 k1_t151 k1_h76
theorem k1_off606_inb : ∀ (i : grid1.Coords) (v386 : BitVec 32) (v392 : BitVec 32) (k1_hw12 : k1_chk12 i v386 v392) (k1_t151 : Fin (k1_t151_loop i v386 v392).trips), ∀ (k1_h76 : k1_cond76 i v386 v392 = 1#1), ∀ a, (k1_off606 i v386 v392 k1_t151) a + S1x16.size a ≤ S256x128.size a := fun i v386 v392 k1_hw12 k1_t151 k1_h76 => k1_hw12.1.2.2.2.2.2.2.2.2.2.2.2.2.2.2.2.2.2.2.2.2.2.2.2.2.1 k1_t151 k1_h76
theorem k1_t152_ok : ∀ (i : grid1.Coords) (v386 : BitVec 32) (v392 : BitVec 32) (k1_hw12 : k1_chk12 i v386 v392), ∀ (k1_h76 : k1_cond76 i v386 v392 = 1#1), (k1_t152_loop i v386 v392).OK := fun i v386 v392 k1_hw12 k1_h76 => k1_hw12.1.2.2.2.2.2.2.2.2.2.2.2.2.2.2.2.2.2.2.2.2.2.2.2.2.2.1 k1_h76
theorem k1_off607_inb : ∀ (i : grid1.Coords) (v386 : BitVec 32) (v392 : BitVec 32) (k1_hw12 : k1_chk12 i v386 v392) (k1_t152 : Fin (k1_t152_loop i v386 v392).trips), ∀ (k1_h76 : k1_cond76 i v386 v392 = 1#1), ∀ a, (k1_off607 i v386 v392 k1_t152) a + S1x16.size a ≤ S256x128.size a := fun i v386 v392 k1_hw12 k1_t152 k1_h76 => k1_hw12.1.2.2.2.2.2.2.2.2.2.2.2.2.2.2.2.2.2.2.2.2.2.2.2.2.2.2.1 k1_t152 k1_h76
theorem k1_off608_inb : ∀ (i : grid1.Coords) (v386 : BitVec 32) (v392 : BitVec 32) (k1_hw12 : k1_chk12 i v386 v392) (k1_t152 : Fin (k1_t152_loop i v386 v392).trips), ∀ (k1_h76 : k1_cond76 i v386 v392 = 1#1), ∀ a, (k1_off608 i v386 v392 k1_t152) a + S1x16.size a ≤ S256x128.size a := fun i v386 v392 k1_hw12 k1_t152 k1_h76 => k1_hw12.1.2.2.2.2.2.2.2.2.2.2.2.2.2.2.2.2.2.2.2.2.2.2.2.2.2.2.2.1 k1_t152 k1_h76
theorem k1_off609_inb : ∀ (i : grid1.Coords) (v386 : BitVec 32) (v392 : BitVec 32) (k1_hw12 : k1_chk12 i v386 v392) (k1_t152 : Fin (k1_t152_loop i v386 v392).trips), ∀ (k1_h76 : k1_cond76 i v386 v392 = 1#1), ∀ a, (k1_off609 i v386 v392 k1_t152) a + S1x16.size a ≤ S256x128.size a := fun i v386 v392 k1_hw12 k1_t152 k1_h76 => k1_hw12.1.2.2.2.2.2.2.2.2.2.2.2.2.2.2.2.2.2.2.2.2.2.2.2.2.2.2.2.2.1 k1_t152 k1_h76
theorem k1_off610_inb : ∀ (i : grid1.Coords) (v386 : BitVec 32) (v392 : BitVec 32) (k1_hw12 : k1_chk12 i v386 v392) (k1_t152 : Fin (k1_t152_loop i v386 v392).trips), ∀ (k1_h76 : k1_cond76 i v386 v392 = 1#1), ∀ a, (k1_off610 i v386 v392 k1_t152) a + S1x16.size a ≤ S256x128.size a := fun i v386 v392 k1_hw12 k1_t152 k1_h76 => k1_hw12.1.2.2.2.2.2.2.2.2.2.2.2.2.2.2.2.2.2.2.2.2.2.2.2.2.2.2.2.2.2.1 k1_t152 k1_h76
theorem k1_t215_ok : ∀ (i : grid1.Coords) (v386 : BitVec 32) (v392 : BitVec 32) (k1_hw12 : k1_chk12 i v386 v392), ∀ (k1_h108 : k1_cond108 i v386 v392 = 1#1), (k1_t215_loop i v386 v392).OK := fun i v386 v392 k1_hw12 k1_h108 => k1_hw12.1.2.2.2.2.2.2.2.2.2.2.2.2.2.2.2.2.2.2.2.2.2.2.2.2.2.2.2.2.2.2.1 k1_h108
theorem k1_off859_inb : ∀ (i : grid1.Coords) (v386 : BitVec 32) (v392 : BitVec 32) (k1_hw12 : k1_chk12 i v386 v392) (k1_t215 : Fin (k1_t215_loop i v386 v392).trips), ∀ (k1_h108 : k1_cond108 i v386 v392 = 1#1), ∀ a, (k1_off859 i v386 v392 k1_t215) a + S1x16.size a ≤ S256x128.size a := fun i v386 v392 k1_hw12 k1_t215 k1_h108 => k1_hw12.1.2.2.2.2.2.2.2.2.2.2.2.2.2.2.2.2.2.2.2.2.2.2.2.2.2.2.2.2.2.2.2 k1_t215 k1_h108
theorem k1_off860_inb : ∀ (i : grid1.Coords) (v386 : BitVec 32) (v392 : BitVec 32) (k1_hw12 : k1_chk12 i v386 v392) (k1_t215 : Fin (k1_t215_loop i v386 v392).trips), ∀ (k1_h108 : k1_cond108 i v386 v392 = 1#1), ∀ a, (k1_off860 i v386 v392 k1_t215) a + S1x16.size a ≤ S256x128.size a := fun i v386 v392 k1_hw12 k1_t215 k1_h108 => k1_hw12.2.1 k1_t215 k1_h108
theorem k1_off861_inb : ∀ (i : grid1.Coords) (v386 : BitVec 32) (v392 : BitVec 32) (k1_hw12 : k1_chk12 i v386 v392) (k1_t215 : Fin (k1_t215_loop i v386 v392).trips), ∀ (k1_h108 : k1_cond108 i v386 v392 = 1#1), ∀ a, (k1_off861 i v386 v392 k1_t215) a + S1x16.size a ≤ S256x128.size a := fun i v386 v392 k1_hw12 k1_t215 k1_h108 => k1_hw12.2.2.1 k1_t215 k1_h108
theorem k1_off862_inb : ∀ (i : grid1.Coords) (v386 : BitVec 32) (v392 : BitVec 32) (k1_hw12 : k1_chk12 i v386 v392) (k1_t215 : Fin (k1_t215_loop i v386 v392).trips), ∀ (k1_h108 : k1_cond108 i v386 v392 = 1#1), ∀ a, (k1_off862 i v386 v392 k1_t215) a + S1x16.size a ≤ S256x128.size a := fun i v386 v392 k1_hw12 k1_t215 k1_h108 => k1_hw12.2.2.2.1 k1_t215 k1_h108
theorem k1_t216_ok : ∀ (i : grid1.Coords) (v386 : BitVec 32) (v392 : BitVec 32) (k1_hw12 : k1_chk12 i v386 v392), ∀ (k1_h108 : k1_cond108 i v386 v392 = 1#1), (k1_t216_loop i v386 v392).OK := fun i v386 v392 k1_hw12 k1_h108 => k1_hw12.2.2.2.2.1 k1_h108
theorem k1_off863_inb : ∀ (i : grid1.Coords) (v386 : BitVec 32) (v392 : BitVec 32) (k1_hw12 : k1_chk12 i v386 v392) (k1_t216 : Fin (k1_t216_loop i v386 v392).trips), ∀ (k1_h108 : k1_cond108 i v386 v392 = 1#1), ∀ a, (k1_off863 i v386 v392 k1_t216) a + S1x16.size a ≤ S256x128.size a := fun i v386 v392 k1_hw12 k1_t216 k1_h108 => k1_hw12.2.2.2.2.2.1 k1_t216 k1_h108
theorem k1_off864_inb : ∀ (i : grid1.Coords) (v386 : BitVec 32) (v392 : BitVec 32) (k1_hw12 : k1_chk12 i v386 v392) (k1_t216 : Fin (k1_t216_loop i v386 v392).trips), ∀ (k1_h108 : k1_cond108 i v386 v392 = 1#1), ∀ a, (k1_off864 i v386 v392 k1_t216) a + S1x16.size a ≤ S256x128.size a := fun i v386 v392 k1_hw12 k1_t216 k1_h108 => k1_hw12.2.2.2.2.2.2.1 k1_t216 k1_h108
theorem k1_off865_inb : ∀ (i : grid1.Coords) (v386 : BitVec 32) (v392 : BitVec 32) (k1_hw12 : k1_chk12 i v386 v392) (k1_t216 : Fin (k1_t216_loop i v386 v392).trips), ∀ (k1_h108 : k1_cond108 i v386 v392 = 1#1), ∀ a, (k1_off865 i v386 v392 k1_t216) a + S1x16.size a ≤ S256x128.size a := fun i v386 v392 k1_hw12 k1_t216 k1_h108 => k1_hw12.2.2.2.2.2.2.2.1 k1_t216 k1_h108
theorem k1_off866_inb : ∀ (i : grid1.Coords) (v386 : BitVec 32) (v392 : BitVec 32) (k1_hw12 : k1_chk12 i v386 v392) (k1_t216 : Fin (k1_t216_loop i v386 v392).trips), ∀ (k1_h108 : k1_cond108 i v386 v392 = 1#1), ∀ a, (k1_off866 i v386 v392 k1_t216) a + S1x16.size a ≤ S256x128.size a := fun i v386 v392 k1_hw12 k1_t216 k1_h108 => k1_hw12.2.2.2.2.2.2.2.2 k1_t216 k1_h108

@[reducible] def k1_t217_loop (i : grid1.Coords) (v398 : BitVec 32) (v403 : BitVec 32) : Scf.Loop 32 :=
  let c256_i32_1050 : BitVec 32 := 256#32
  let c0_i32_1049 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let c256_i32_1053 : BitVec 32 := 256#32
  let c0_i32_1052 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c768_i32_1051 : BitVec 32 := 768#32
  let v1616 : BitVec 32 := Scalar.subi v406 c768_i32_1051
  let v1617 : BitVec 32 := Scalar.maxsi c0_i32_1052 v1616
  let v1618 : BitVec 32 := Scalar.minsi c256_i32_1053 v1617
  let v1805 : BitVec 32 := Scalar.subi v1618 v1615
  let c1_i32_1196 : BitVec 32 := 1#32
  let v1807 : BitVec 32 := Scalar.divsi v1805 c1_i32_1196
  let v1808 : BitVec 32 := Scalar.muli v1807 c1_i32_1196
  let v1809 : BitVec 32 := Scalar.addi v1615 v1808
  let c1_i32_1197 : BitVec 32 := 1#32
  ⟨v1615, v1809, c1_i32_1197⟩
def k1_cond109 (i : grid1.Coords) (v398 : BitVec 32) (v403 : BitVec 32) : BitVec 1 :=
  let c256_i32_1053 : BitVec 32 := 256#32
  let c0_i32_1052 : BitVec 32 := 0#32
  let c1024_i32_174 : BitVec 32 := 1024#32
  let c0_i32_173 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v404 : BitVec 32 := Scalar.subi v403 v3
  let v405 : BitVec 32 := Scalar.maxsi c0_i32_173 v404
  let v406 : BitVec 32 := Scalar.minsi c1024_i32_174 v405
  let c768_i32_1051 : BitVec 32 := 768#32
  let v1616 : BitVec 32 := Scalar.subi v406 c768_i32_1051
  let v1617 : BitVec 32 := Scalar.maxsi c0_i32_1052 v1616
  let v1618 : BitVec 32 := Scalar.minsi c256_i32_1053 v1617
  let c256_i32_1050 : BitVec 32 := 256#32
  let c0_i32_1049 : BitVec 32 := 0#32
  let c1024_i32_172 : BitVec 32 := 1024#32
  let c0_i32_171 : BitVec 32 := 0#32
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let v1619 : BitVec 1 := Scalar.cmpi .sgt v1618 v1615
  let v1620 : BitVec 32 := Scalar.extui v1619
  let c0_i32_1054 : BitVec 32 := 0#32
  let v1621 : BitVec 1 := Scalar.cmpi .ne v1620 c0_i32_1054
  v1621

def k1_off867 (i : grid1.Coords) (v398 : BitVec 32) (v403 : BitVec 32) (k1_t217 : Fin (k1_t217_loop i v398 v403).trips) : Fin 2 → Nat :=
  let c256_i32_1050 : BitVec 32 := 256#32
  let c0_i32_1049 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let c1_i32_1197 : BitVec 32 := 1#32
  let arg13 : BitVec 32 := Scf.iv v1615 c1_i32_1197 k1_t217
  let v1828 : Index := Scalar.indexCast arg13
  let c0_1207 : Index := 0#32
  ![v1828.toNat, 0]
def k1_off868 (i : grid1.Coords) (v398 : BitVec 32) (v403 : BitVec 32) (k1_t217 : Fin (k1_t217_loop i v398 v403).trips) : Fin 2 → Nat :=
  let c256_i32_1050 : BitVec 32 := 256#32
  let c0_i32_1049 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let c1_i32_1197 : BitVec 32 := 1#32
  let arg13 : BitVec 32 := Scf.iv v1615 c1_i32_1197 k1_t217
  let v1832 : Index := Scalar.indexCast arg13
  let c16_1208 : Index := 16#32
  ![v1832.toNat, 16]
def k1_off869 (i : grid1.Coords) (v398 : BitVec 32) (v403 : BitVec 32) (k1_t217 : Fin (k1_t217_loop i v398 v403).trips) : Fin 2 → Nat :=
  let c256_i32_1050 : BitVec 32 := 256#32
  let c0_i32_1049 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let c1_i32_1197 : BitVec 32 := 1#32
  let arg13 : BitVec 32 := Scf.iv v1615 c1_i32_1197 k1_t217
  let v1836 : Index := Scalar.indexCast arg13
  let c32_1209 : Index := 32#32
  ![v1836.toNat, 32]
def k1_off870 (i : grid1.Coords) (v398 : BitVec 32) (v403 : BitVec 32) (k1_t217 : Fin (k1_t217_loop i v398 v403).trips) : Fin 2 → Nat :=
  let c256_i32_1050 : BitVec 32 := 256#32
  let c0_i32_1049 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let c1_i32_1197 : BitVec 32 := 1#32
  let arg13 : BitVec 32 := Scf.iv v1615 c1_i32_1197 k1_t217
  let v1840 : Index := Scalar.indexCast arg13
  let c48_1210 : Index := 48#32
  ![v1840.toNat, 48]
@[reducible] def k1_t218_loop (i : grid1.Coords) (v398 : BitVec 32) (v403 : BitVec 32) : Scf.Loop 32 :=
  let c256_i32_1050 : BitVec 32 := 256#32
  let c0_i32_1049 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let c256_i32_1053 : BitVec 32 := 256#32
  let c0_i32_1052 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c768_i32_1051 : BitVec 32 := 768#32
  let v1616 : BitVec 32 := Scalar.subi v406 c768_i32_1051
  let v1617 : BitVec 32 := Scalar.maxsi c0_i32_1052 v1616
  let v1618 : BitVec 32 := Scalar.minsi c256_i32_1053 v1617
  let v1805 : BitVec 32 := Scalar.subi v1618 v1615
  let c1_i32_1196 : BitVec 32 := 1#32
  let v1807 : BitVec 32 := Scalar.divsi v1805 c1_i32_1196
  let v1808 : BitVec 32 := Scalar.muli v1807 c1_i32_1196
  let v1809 : BitVec 32 := Scalar.addi v1615 v1808
  let v1806 : BitVec 32 := Scalar.addi v1615 v1805
  let c1_i32_1198 : BitVec 32 := 1#32
  ⟨v1809, v1806, c1_i32_1198⟩
def k1_off871 (i : grid1.Coords) (v398 : BitVec 32) (v403 : BitVec 32) (k1_t218 : Fin (k1_t218_loop i v398 v403).trips) : Fin 2 → Nat :=
  let c256_i32_1050 : BitVec 32 := 256#32
  let c0_i32_1049 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let c256_i32_1053 : BitVec 32 := 256#32
  let c0_i32_1052 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c768_i32_1051 : BitVec 32 := 768#32
  let v1616 : BitVec 32 := Scalar.subi v406 c768_i32_1051
  let v1617 : BitVec 32 := Scalar.maxsi c0_i32_1052 v1616
  let v1618 : BitVec 32 := Scalar.minsi c256_i32_1053 v1617
  let v1805 : BitVec 32 := Scalar.subi v1618 v1615
  let c1_i32_1196 : BitVec 32 := 1#32
  let v1807 : BitVec 32 := Scalar.divsi v1805 c1_i32_1196
  let v1808 : BitVec 32 := Scalar.muli v1807 c1_i32_1196
  let v1809 : BitVec 32 := Scalar.addi v1615 v1808
  let c1_i32_1198 : BitVec 32 := 1#32
  let arg13 : BitVec 32 := Scf.iv v1809 c1_i32_1198 k1_t218
  let v1828 : Index := Scalar.indexCast arg13
  let c0_1207 : Index := 0#32
  ![v1828.toNat, 0]
def k1_off872 (i : grid1.Coords) (v398 : BitVec 32) (v403 : BitVec 32) (k1_t218 : Fin (k1_t218_loop i v398 v403).trips) : Fin 2 → Nat :=
  let c256_i32_1050 : BitVec 32 := 256#32
  let c0_i32_1049 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let c256_i32_1053 : BitVec 32 := 256#32
  let c0_i32_1052 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c768_i32_1051 : BitVec 32 := 768#32
  let v1616 : BitVec 32 := Scalar.subi v406 c768_i32_1051
  let v1617 : BitVec 32 := Scalar.maxsi c0_i32_1052 v1616
  let v1618 : BitVec 32 := Scalar.minsi c256_i32_1053 v1617
  let v1805 : BitVec 32 := Scalar.subi v1618 v1615
  let c1_i32_1196 : BitVec 32 := 1#32
  let v1807 : BitVec 32 := Scalar.divsi v1805 c1_i32_1196
  let v1808 : BitVec 32 := Scalar.muli v1807 c1_i32_1196
  let v1809 : BitVec 32 := Scalar.addi v1615 v1808
  let c1_i32_1198 : BitVec 32 := 1#32
  let arg13 : BitVec 32 := Scf.iv v1809 c1_i32_1198 k1_t218
  let v1832 : Index := Scalar.indexCast arg13
  let c16_1208 : Index := 16#32
  ![v1832.toNat, 16]
def k1_off873 (i : grid1.Coords) (v398 : BitVec 32) (v403 : BitVec 32) (k1_t218 : Fin (k1_t218_loop i v398 v403).trips) : Fin 2 → Nat :=
  let c256_i32_1050 : BitVec 32 := 256#32
  let c0_i32_1049 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let c256_i32_1053 : BitVec 32 := 256#32
  let c0_i32_1052 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c768_i32_1051 : BitVec 32 := 768#32
  let v1616 : BitVec 32 := Scalar.subi v406 c768_i32_1051
  let v1617 : BitVec 32 := Scalar.maxsi c0_i32_1052 v1616
  let v1618 : BitVec 32 := Scalar.minsi c256_i32_1053 v1617
  let v1805 : BitVec 32 := Scalar.subi v1618 v1615
  let c1_i32_1196 : BitVec 32 := 1#32
  let v1807 : BitVec 32 := Scalar.divsi v1805 c1_i32_1196
  let v1808 : BitVec 32 := Scalar.muli v1807 c1_i32_1196
  let v1809 : BitVec 32 := Scalar.addi v1615 v1808
  let c1_i32_1198 : BitVec 32 := 1#32
  let arg13 : BitVec 32 := Scf.iv v1809 c1_i32_1198 k1_t218
  let v1836 : Index := Scalar.indexCast arg13
  let c32_1209 : Index := 32#32
  ![v1836.toNat, 32]
def k1_off874 (i : grid1.Coords) (v398 : BitVec 32) (v403 : BitVec 32) (k1_t218 : Fin (k1_t218_loop i v398 v403).trips) : Fin 2 → Nat :=
  let c256_i32_1050 : BitVec 32 := 256#32
  let c0_i32_1049 : BitVec 32 := 0#32
  let c1024_i32_172 : BitVec 32 := 1024#32
  let c0_i32_171 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v399 : BitVec 32 := Scalar.subi v398 v3
  let v400 : BitVec 32 := Scalar.maxsi c0_i32_171 v399
  let v401 : BitVec 32 := Scalar.minsi c1024_i32_172 v400
  let c768_i32_1048 : BitVec 32 := 768#32
  let v1613 : BitVec 32 := Scalar.subi v401 c768_i32_1048
  let v1614 : BitVec 32 := Scalar.maxsi c0_i32_1049 v1613
  let v1615 : BitVec 32 := Scalar.minsi c256_i32_1050 v1614
  let c256_i32_1053 : BitVec 32 := 256#32
  let c0_i32_1052 : BitVec 32 := 0#32
  let c1024_i32_174 : BitVec 32 := 1024#32
  let c0_i32_173 : BitVec 32 := 0#32
  let v404 : BitVec 32 := Scalar.subi v403 v3
  let v405 : BitVec 32 := Scalar.maxsi c0_i32_173 v404
  let v406 : BitVec 32 := Scalar.minsi c1024_i32_174 v405
  let c768_i32_1051 : BitVec 32 := 768#32
  let v1616 : BitVec 32 := Scalar.subi v406 c768_i32_1051
  let v1617 : BitVec 32 := Scalar.maxsi c0_i32_1052 v1616
  let v1618 : BitVec 32 := Scalar.minsi c256_i32_1053 v1617
  let v1805 : BitVec 32 := Scalar.subi v1618 v1615
  let c1_i32_1196 : BitVec 32 := 1#32
  let v1807 : BitVec 32 := Scalar.divsi v1805 c1_i32_1196
  let v1808 : BitVec 32 := Scalar.muli v1807 c1_i32_1196
  let v1809 : BitVec 32 := Scalar.addi v1615 v1808
  let c1_i32_1198 : BitVec 32 := 1#32
  let arg13 : BitVec 32 := Scf.iv v1809 c1_i32_1198 k1_t218
  let v1840 : Index := Scalar.indexCast arg13
  let c48_1210 : Index := 48#32
  ![v1840.toNat, 48]

def k1_chk13_0 (i : grid1.Coords) (v398 : BitVec 32) (v403 : BitVec 32) : Prop :=
  (∀ (k1_h13 : k1_cond13 i v398 v403 = 1#1), (k1_t25_loop i v398 v403).OK) ∧
  (∀ k1_t25 : Fin (k1_t25_loop i v398 v403).trips, ∀ (k1_h13 : k1_cond13 i v398 v403 = 1#1), ∀ a, (k1_off98 i v398 v403 k1_t25) a + S1x16.size a ≤ S256x128.size a) ∧
  (∀ k1_t25 : Fin (k1_t25_loop i v398 v403).trips, ∀ (k1_h13 : k1_cond13 i v398 v403 = 1#1), ∀ a, (k1_off99 i v398 v403 k1_t25) a + S1x16.size a ≤ S256x128.size a) ∧
  (∀ k1_t25 : Fin (k1_t25_loop i v398 v403).trips, ∀ (k1_h13 : k1_cond13 i v398 v403 = 1#1), ∀ a, (k1_off100 i v398 v403 k1_t25) a + S1x16.size a ≤ S256x128.size a) ∧
  (∀ k1_t25 : Fin (k1_t25_loop i v398 v403).trips, ∀ (k1_h13 : k1_cond13 i v398 v403 = 1#1), ∀ a, (k1_off101 i v398 v403 k1_t25) a + S1x16.size a ≤ S256x128.size a) ∧
  (∀ (k1_h13 : k1_cond13 i v398 v403 = 1#1), (k1_t26_loop i v398 v403).OK) ∧
  (∀ k1_t26 : Fin (k1_t26_loop i v398 v403).trips, ∀ (k1_h13 : k1_cond13 i v398 v403 = 1#1), ∀ a, (k1_off102 i v398 v403 k1_t26) a + S1x16.size a ≤ S256x128.size a) ∧
  (∀ k1_t26 : Fin (k1_t26_loop i v398 v403).trips, ∀ (k1_h13 : k1_cond13 i v398 v403 = 1#1), ∀ a, (k1_off103 i v398 v403 k1_t26) a + S1x16.size a ≤ S256x128.size a) ∧
  (∀ k1_t26 : Fin (k1_t26_loop i v398 v403).trips, ∀ (k1_h13 : k1_cond13 i v398 v403 = 1#1), ∀ a, (k1_off104 i v398 v403 k1_t26) a + S1x16.size a ≤ S256x128.size a) ∧
  (∀ k1_t26 : Fin (k1_t26_loop i v398 v403).trips, ∀ (k1_h13 : k1_cond13 i v398 v403 = 1#1), ∀ a, (k1_off105 i v398 v403 k1_t26) a + S1x16.size a ≤ S256x128.size a) ∧
  (∀ (k1_h45 : k1_cond45 i v398 v403 = 1#1), (k1_t89_loop i v398 v403).OK) ∧
  (∀ k1_t89 : Fin (k1_t89_loop i v398 v403).trips, ∀ (k1_h45 : k1_cond45 i v398 v403 = 1#1), ∀ a, (k1_off355 i v398 v403 k1_t89) a + S1x16.size a ≤ S256x128.size a) ∧
  (∀ k1_t89 : Fin (k1_t89_loop i v398 v403).trips, ∀ (k1_h45 : k1_cond45 i v398 v403 = 1#1), ∀ a, (k1_off356 i v398 v403 k1_t89) a + S1x16.size a ≤ S256x128.size a) ∧
  (∀ k1_t89 : Fin (k1_t89_loop i v398 v403).trips, ∀ (k1_h45 : k1_cond45 i v398 v403 = 1#1), ∀ a, (k1_off357 i v398 v403 k1_t89) a + S1x16.size a ≤ S256x128.size a) ∧
  (∀ k1_t89 : Fin (k1_t89_loop i v398 v403).trips, ∀ (k1_h45 : k1_cond45 i v398 v403 = 1#1), ∀ a, (k1_off358 i v398 v403 k1_t89) a + S1x16.size a ≤ S256x128.size a) ∧
  (∀ (k1_h45 : k1_cond45 i v398 v403 = 1#1), (k1_t90_loop i v398 v403).OK) ∧
  (∀ k1_t90 : Fin (k1_t90_loop i v398 v403).trips, ∀ (k1_h45 : k1_cond45 i v398 v403 = 1#1), ∀ a, (k1_off359 i v398 v403 k1_t90) a + S1x16.size a ≤ S256x128.size a) ∧
  (∀ k1_t90 : Fin (k1_t90_loop i v398 v403).trips, ∀ (k1_h45 : k1_cond45 i v398 v403 = 1#1), ∀ a, (k1_off360 i v398 v403 k1_t90) a + S1x16.size a ≤ S256x128.size a) ∧
  (∀ k1_t90 : Fin (k1_t90_loop i v398 v403).trips, ∀ (k1_h45 : k1_cond45 i v398 v403 = 1#1), ∀ a, (k1_off361 i v398 v403 k1_t90) a + S1x16.size a ≤ S256x128.size a) ∧
  (∀ k1_t90 : Fin (k1_t90_loop i v398 v403).trips, ∀ (k1_h45 : k1_cond45 i v398 v403 = 1#1), ∀ a, (k1_off362 i v398 v403 k1_t90) a + S1x16.size a ≤ S256x128.size a) ∧
  (∀ (k1_h77 : k1_cond77 i v398 v403 = 1#1), (k1_t153_loop i v398 v403).OK) ∧
  (∀ k1_t153 : Fin (k1_t153_loop i v398 v403).trips, ∀ (k1_h77 : k1_cond77 i v398 v403 = 1#1), ∀ a, (k1_off611 i v398 v403 k1_t153) a + S1x16.size a ≤ S256x128.size a) ∧
  (∀ k1_t153 : Fin (k1_t153_loop i v398 v403).trips, ∀ (k1_h77 : k1_cond77 i v398 v403 = 1#1), ∀ a, (k1_off612 i v398 v403 k1_t153) a + S1x16.size a ≤ S256x128.size a) ∧
  (∀ k1_t153 : Fin (k1_t153_loop i v398 v403).trips, ∀ (k1_h77 : k1_cond77 i v398 v403 = 1#1), ∀ a, (k1_off613 i v398 v403 k1_t153) a + S1x16.size a ≤ S256x128.size a) ∧
  (∀ k1_t153 : Fin (k1_t153_loop i v398 v403).trips, ∀ (k1_h77 : k1_cond77 i v398 v403 = 1#1), ∀ a, (k1_off614 i v398 v403 k1_t153) a + S1x16.size a ≤ S256x128.size a) ∧
  (∀ (k1_h77 : k1_cond77 i v398 v403 = 1#1), (k1_t154_loop i v398 v403).OK) ∧
  (∀ k1_t154 : Fin (k1_t154_loop i v398 v403).trips, ∀ (k1_h77 : k1_cond77 i v398 v403 = 1#1), ∀ a, (k1_off615 i v398 v403 k1_t154) a + S1x16.size a ≤ S256x128.size a) ∧
  (∀ k1_t154 : Fin (k1_t154_loop i v398 v403).trips, ∀ (k1_h77 : k1_cond77 i v398 v403 = 1#1), ∀ a, (k1_off616 i v398 v403 k1_t154) a + S1x16.size a ≤ S256x128.size a) ∧
  (∀ k1_t154 : Fin (k1_t154_loop i v398 v403).trips, ∀ (k1_h77 : k1_cond77 i v398 v403 = 1#1), ∀ a, (k1_off617 i v398 v403 k1_t154) a + S1x16.size a ≤ S256x128.size a) ∧
  (∀ k1_t154 : Fin (k1_t154_loop i v398 v403).trips, ∀ (k1_h77 : k1_cond77 i v398 v403 = 1#1), ∀ a, (k1_off618 i v398 v403 k1_t154) a + S1x16.size a ≤ S256x128.size a) ∧
  (∀ (k1_h109 : k1_cond109 i v398 v403 = 1#1), (k1_t217_loop i v398 v403).OK) ∧
  (∀ k1_t217 : Fin (k1_t217_loop i v398 v403).trips, ∀ (k1_h109 : k1_cond109 i v398 v403 = 1#1), ∀ a, (k1_off867 i v398 v403 k1_t217) a + S1x16.size a ≤ S256x128.size a)
def k1_chk13_1 (i : grid1.Coords) (v398 : BitVec 32) (v403 : BitVec 32) : Prop :=
  (∀ k1_t217 : Fin (k1_t217_loop i v398 v403).trips, ∀ (k1_h109 : k1_cond109 i v398 v403 = 1#1), ∀ a, (k1_off868 i v398 v403 k1_t217) a + S1x16.size a ≤ S256x128.size a) ∧
  (∀ k1_t217 : Fin (k1_t217_loop i v398 v403).trips, ∀ (k1_h109 : k1_cond109 i v398 v403 = 1#1), ∀ a, (k1_off869 i v398 v403 k1_t217) a + S1x16.size a ≤ S256x128.size a) ∧
  (∀ k1_t217 : Fin (k1_t217_loop i v398 v403).trips, ∀ (k1_h109 : k1_cond109 i v398 v403 = 1#1), ∀ a, (k1_off870 i v398 v403 k1_t217) a + S1x16.size a ≤ S256x128.size a) ∧
  (∀ (k1_h109 : k1_cond109 i v398 v403 = 1#1), (k1_t218_loop i v398 v403).OK) ∧
  (∀ k1_t218 : Fin (k1_t218_loop i v398 v403).trips, ∀ (k1_h109 : k1_cond109 i v398 v403 = 1#1), ∀ a, (k1_off871 i v398 v403 k1_t218) a + S1x16.size a ≤ S256x128.size a) ∧
  (∀ k1_t218 : Fin (k1_t218_loop i v398 v403).trips, ∀ (k1_h109 : k1_cond109 i v398 v403 = 1#1), ∀ a, (k1_off872 i v398 v403 k1_t218) a + S1x16.size a ≤ S256x128.size a) ∧
  (∀ k1_t218 : Fin (k1_t218_loop i v398 v403).trips, ∀ (k1_h109 : k1_cond109 i v398 v403 = 1#1), ∀ a, (k1_off873 i v398 v403 k1_t218) a + S1x16.size a ≤ S256x128.size a) ∧
  (∀ k1_t218 : Fin (k1_t218_loop i v398 v403).trips, ∀ (k1_h109 : k1_cond109 i v398 v403 = 1#1), ∀ a, (k1_off874 i v398 v403 k1_t218) a + S1x16.size a ≤ S256x128.size a)
def k1_chk13 (i : grid1.Coords) (v398 : BitVec 32) (v403 : BitVec 32) : Prop :=
  k1_chk13_0 i v398 v403 ∧
  k1_chk13_1 i v398 v403
theorem k1_t25_ok : ∀ (i : grid1.Coords) (v398 : BitVec 32) (v403 : BitVec 32) (k1_hw13 : k1_chk13 i v398 v403), ∀ (k1_h13 : k1_cond13 i v398 v403 = 1#1), (k1_t25_loop i v398 v403).OK := fun i v398 v403 k1_hw13 k1_h13 => k1_hw13.1.1 k1_h13
theorem k1_off98_inb : ∀ (i : grid1.Coords) (v398 : BitVec 32) (v403 : BitVec 32) (k1_hw13 : k1_chk13 i v398 v403) (k1_t25 : Fin (k1_t25_loop i v398 v403).trips), ∀ (k1_h13 : k1_cond13 i v398 v403 = 1#1), ∀ a, (k1_off98 i v398 v403 k1_t25) a + S1x16.size a ≤ S256x128.size a := fun i v398 v403 k1_hw13 k1_t25 k1_h13 => k1_hw13.1.2.1 k1_t25 k1_h13
theorem k1_off99_inb : ∀ (i : grid1.Coords) (v398 : BitVec 32) (v403 : BitVec 32) (k1_hw13 : k1_chk13 i v398 v403) (k1_t25 : Fin (k1_t25_loop i v398 v403).trips), ∀ (k1_h13 : k1_cond13 i v398 v403 = 1#1), ∀ a, (k1_off99 i v398 v403 k1_t25) a + S1x16.size a ≤ S256x128.size a := fun i v398 v403 k1_hw13 k1_t25 k1_h13 => k1_hw13.1.2.2.1 k1_t25 k1_h13
theorem k1_off100_inb : ∀ (i : grid1.Coords) (v398 : BitVec 32) (v403 : BitVec 32) (k1_hw13 : k1_chk13 i v398 v403) (k1_t25 : Fin (k1_t25_loop i v398 v403).trips), ∀ (k1_h13 : k1_cond13 i v398 v403 = 1#1), ∀ a, (k1_off100 i v398 v403 k1_t25) a + S1x16.size a ≤ S256x128.size a := fun i v398 v403 k1_hw13 k1_t25 k1_h13 => k1_hw13.1.2.2.2.1 k1_t25 k1_h13
theorem k1_off101_inb : ∀ (i : grid1.Coords) (v398 : BitVec 32) (v403 : BitVec 32) (k1_hw13 : k1_chk13 i v398 v403) (k1_t25 : Fin (k1_t25_loop i v398 v403).trips), ∀ (k1_h13 : k1_cond13 i v398 v403 = 1#1), ∀ a, (k1_off101 i v398 v403 k1_t25) a + S1x16.size a ≤ S256x128.size a := fun i v398 v403 k1_hw13 k1_t25 k1_h13 => k1_hw13.1.2.2.2.2.1 k1_t25 k1_h13
theorem k1_t26_ok : ∀ (i : grid1.Coords) (v398 : BitVec 32) (v403 : BitVec 32) (k1_hw13 : k1_chk13 i v398 v403), ∀ (k1_h13 : k1_cond13 i v398 v403 = 1#1), (k1_t26_loop i v398 v403).OK := fun i v398 v403 k1_hw13 k1_h13 => k1_hw13.1.2.2.2.2.2.1 k1_h13
theorem k1_off102_inb : ∀ (i : grid1.Coords) (v398 : BitVec 32) (v403 : BitVec 32) (k1_hw13 : k1_chk13 i v398 v403) (k1_t26 : Fin (k1_t26_loop i v398 v403).trips), ∀ (k1_h13 : k1_cond13 i v398 v403 = 1#1), ∀ a, (k1_off102 i v398 v403 k1_t26) a + S1x16.size a ≤ S256x128.size a := fun i v398 v403 k1_hw13 k1_t26 k1_h13 => k1_hw13.1.2.2.2.2.2.2.1 k1_t26 k1_h13
theorem k1_off103_inb : ∀ (i : grid1.Coords) (v398 : BitVec 32) (v403 : BitVec 32) (k1_hw13 : k1_chk13 i v398 v403) (k1_t26 : Fin (k1_t26_loop i v398 v403).trips), ∀ (k1_h13 : k1_cond13 i v398 v403 = 1#1), ∀ a, (k1_off103 i v398 v403 k1_t26) a + S1x16.size a ≤ S256x128.size a := fun i v398 v403 k1_hw13 k1_t26 k1_h13 => k1_hw13.1.2.2.2.2.2.2.2.1 k1_t26 k1_h13
theorem k1_off104_inb : ∀ (i : grid1.Coords) (v398 : BitVec 32) (v403 : BitVec 32) (k1_hw13 : k1_chk13 i v398 v403) (k1_t26 : Fin (k1_t26_loop i v398 v403).trips), ∀ (k1_h13 : k1_cond13 i v398 v403 = 1#1), ∀ a, (k1_off104 i v398 v403 k1_t26) a + S1x16.size a ≤ S256x128.size a := fun i v398 v403 k1_hw13 k1_t26 k1_h13 => k1_hw13.1.2.2.2.2.2.2.2.2.1 k1_t26 k1_h13
theorem k1_off105_inb : ∀ (i : grid1.Coords) (v398 : BitVec 32) (v403 : BitVec 32) (k1_hw13 : k1_chk13 i v398 v403) (k1_t26 : Fin (k1_t26_loop i v398 v403).trips), ∀ (k1_h13 : k1_cond13 i v398 v403 = 1#1), ∀ a, (k1_off105 i v398 v403 k1_t26) a + S1x16.size a ≤ S256x128.size a := fun i v398 v403 k1_hw13 k1_t26 k1_h13 => k1_hw13.1.2.2.2.2.2.2.2.2.2.1 k1_t26 k1_h13
theorem k1_t89_ok : ∀ (i : grid1.Coords) (v398 : BitVec 32) (v403 : BitVec 32) (k1_hw13 : k1_chk13 i v398 v403), ∀ (k1_h45 : k1_cond45 i v398 v403 = 1#1), (k1_t89_loop i v398 v403).OK := fun i v398 v403 k1_hw13 k1_h45 => k1_hw13.1.2.2.2.2.2.2.2.2.2.2.1 k1_h45
theorem k1_off355_inb : ∀ (i : grid1.Coords) (v398 : BitVec 32) (v403 : BitVec 32) (k1_hw13 : k1_chk13 i v398 v403) (k1_t89 : Fin (k1_t89_loop i v398 v403).trips), ∀ (k1_h45 : k1_cond45 i v398 v403 = 1#1), ∀ a, (k1_off355 i v398 v403 k1_t89) a + S1x16.size a ≤ S256x128.size a := fun i v398 v403 k1_hw13 k1_t89 k1_h45 => k1_hw13.1.2.2.2.2.2.2.2.2.2.2.2.1 k1_t89 k1_h45
theorem k1_off356_inb : ∀ (i : grid1.Coords) (v398 : BitVec 32) (v403 : BitVec 32) (k1_hw13 : k1_chk13 i v398 v403) (k1_t89 : Fin (k1_t89_loop i v398 v403).trips), ∀ (k1_h45 : k1_cond45 i v398 v403 = 1#1), ∀ a, (k1_off356 i v398 v403 k1_t89) a + S1x16.size a ≤ S256x128.size a := fun i v398 v403 k1_hw13 k1_t89 k1_h45 => k1_hw13.1.2.2.2.2.2.2.2.2.2.2.2.2.1 k1_t89 k1_h45
theorem k1_off357_inb : ∀ (i : grid1.Coords) (v398 : BitVec 32) (v403 : BitVec 32) (k1_hw13 : k1_chk13 i v398 v403) (k1_t89 : Fin (k1_t89_loop i v398 v403).trips), ∀ (k1_h45 : k1_cond45 i v398 v403 = 1#1), ∀ a, (k1_off357 i v398 v403 k1_t89) a + S1x16.size a ≤ S256x128.size a := fun i v398 v403 k1_hw13 k1_t89 k1_h45 => k1_hw13.1.2.2.2.2.2.2.2.2.2.2.2.2.2.1 k1_t89 k1_h45
theorem k1_off358_inb : ∀ (i : grid1.Coords) (v398 : BitVec 32) (v403 : BitVec 32) (k1_hw13 : k1_chk13 i v398 v403) (k1_t89 : Fin (k1_t89_loop i v398 v403).trips), ∀ (k1_h45 : k1_cond45 i v398 v403 = 1#1), ∀ a, (k1_off358 i v398 v403 k1_t89) a + S1x16.size a ≤ S256x128.size a := fun i v398 v403 k1_hw13 k1_t89 k1_h45 => k1_hw13.1.2.2.2.2.2.2.2.2.2.2.2.2.2.2.1 k1_t89 k1_h45
theorem k1_t90_ok : ∀ (i : grid1.Coords) (v398 : BitVec 32) (v403 : BitVec 32) (k1_hw13 : k1_chk13 i v398 v403), ∀ (k1_h45 : k1_cond45 i v398 v403 = 1#1), (k1_t90_loop i v398 v403).OK := fun i v398 v403 k1_hw13 k1_h45 => k1_hw13.1.2.2.2.2.2.2.2.2.2.2.2.2.2.2.2.1 k1_h45
theorem k1_off359_inb : ∀ (i : grid1.Coords) (v398 : BitVec 32) (v403 : BitVec 32) (k1_hw13 : k1_chk13 i v398 v403) (k1_t90 : Fin (k1_t90_loop i v398 v403).trips), ∀ (k1_h45 : k1_cond45 i v398 v403 = 1#1), ∀ a, (k1_off359 i v398 v403 k1_t90) a + S1x16.size a ≤ S256x128.size a := fun i v398 v403 k1_hw13 k1_t90 k1_h45 => k1_hw13.1.2.2.2.2.2.2.2.2.2.2.2.2.2.2.2.2.1 k1_t90 k1_h45
theorem k1_off360_inb : ∀ (i : grid1.Coords) (v398 : BitVec 32) (v403 : BitVec 32) (k1_hw13 : k1_chk13 i v398 v403) (k1_t90 : Fin (k1_t90_loop i v398 v403).trips), ∀ (k1_h45 : k1_cond45 i v398 v403 = 1#1), ∀ a, (k1_off360 i v398 v403 k1_t90) a + S1x16.size a ≤ S256x128.size a := fun i v398 v403 k1_hw13 k1_t90 k1_h45 => k1_hw13.1.2.2.2.2.2.2.2.2.2.2.2.2.2.2.2.2.2.1 k1_t90 k1_h45
theorem k1_off361_inb : ∀ (i : grid1.Coords) (v398 : BitVec 32) (v403 : BitVec 32) (k1_hw13 : k1_chk13 i v398 v403) (k1_t90 : Fin (k1_t90_loop i v398 v403).trips), ∀ (k1_h45 : k1_cond45 i v398 v403 = 1#1), ∀ a, (k1_off361 i v398 v403 k1_t90) a + S1x16.size a ≤ S256x128.size a := fun i v398 v403 k1_hw13 k1_t90 k1_h45 => k1_hw13.1.2.2.2.2.2.2.2.2.2.2.2.2.2.2.2.2.2.2.1 k1_t90 k1_h45
theorem k1_off362_inb : ∀ (i : grid1.Coords) (v398 : BitVec 32) (v403 : BitVec 32) (k1_hw13 : k1_chk13 i v398 v403) (k1_t90 : Fin (k1_t90_loop i v398 v403).trips), ∀ (k1_h45 : k1_cond45 i v398 v403 = 1#1), ∀ a, (k1_off362 i v398 v403 k1_t90) a + S1x16.size a ≤ S256x128.size a := fun i v398 v403 k1_hw13 k1_t90 k1_h45 => k1_hw13.1.2.2.2.2.2.2.2.2.2.2.2.2.2.2.2.2.2.2.2.1 k1_t90 k1_h45
theorem k1_t153_ok : ∀ (i : grid1.Coords) (v398 : BitVec 32) (v403 : BitVec 32) (k1_hw13 : k1_chk13 i v398 v403), ∀ (k1_h77 : k1_cond77 i v398 v403 = 1#1), (k1_t153_loop i v398 v403).OK := fun i v398 v403 k1_hw13 k1_h77 => k1_hw13.1.2.2.2.2.2.2.2.2.2.2.2.2.2.2.2.2.2.2.2.2.1 k1_h77
theorem k1_off611_inb : ∀ (i : grid1.Coords) (v398 : BitVec 32) (v403 : BitVec 32) (k1_hw13 : k1_chk13 i v398 v403) (k1_t153 : Fin (k1_t153_loop i v398 v403).trips), ∀ (k1_h77 : k1_cond77 i v398 v403 = 1#1), ∀ a, (k1_off611 i v398 v403 k1_t153) a + S1x16.size a ≤ S256x128.size a := fun i v398 v403 k1_hw13 k1_t153 k1_h77 => k1_hw13.1.2.2.2.2.2.2.2.2.2.2.2.2.2.2.2.2.2.2.2.2.2.1 k1_t153 k1_h77
theorem k1_off612_inb : ∀ (i : grid1.Coords) (v398 : BitVec 32) (v403 : BitVec 32) (k1_hw13 : k1_chk13 i v398 v403) (k1_t153 : Fin (k1_t153_loop i v398 v403).trips), ∀ (k1_h77 : k1_cond77 i v398 v403 = 1#1), ∀ a, (k1_off612 i v398 v403 k1_t153) a + S1x16.size a ≤ S256x128.size a := fun i v398 v403 k1_hw13 k1_t153 k1_h77 => k1_hw13.1.2.2.2.2.2.2.2.2.2.2.2.2.2.2.2.2.2.2.2.2.2.2.1 k1_t153 k1_h77
theorem k1_off613_inb : ∀ (i : grid1.Coords) (v398 : BitVec 32) (v403 : BitVec 32) (k1_hw13 : k1_chk13 i v398 v403) (k1_t153 : Fin (k1_t153_loop i v398 v403).trips), ∀ (k1_h77 : k1_cond77 i v398 v403 = 1#1), ∀ a, (k1_off613 i v398 v403 k1_t153) a + S1x16.size a ≤ S256x128.size a := fun i v398 v403 k1_hw13 k1_t153 k1_h77 => k1_hw13.1.2.2.2.2.2.2.2.2.2.2.2.2.2.2.2.2.2.2.2.2.2.2.2.1 k1_t153 k1_h77
theorem k1_off614_inb : ∀ (i : grid1.Coords) (v398 : BitVec 32) (v403 : BitVec 32) (k1_hw13 : k1_chk13 i v398 v403) (k1_t153 : Fin (k1_t153_loop i v398 v403).trips), ∀ (k1_h77 : k1_cond77 i v398 v403 = 1#1), ∀ a, (k1_off614 i v398 v403 k1_t153) a + S1x16.size a ≤ S256x128.size a := fun i v398 v403 k1_hw13 k1_t153 k1_h77 => k1_hw13.1.2.2.2.2.2.2.2.2.2.2.2.2.2.2.2.2.2.2.2.2.2.2.2.2.1 k1_t153 k1_h77
theorem k1_t154_ok : ∀ (i : grid1.Coords) (v398 : BitVec 32) (v403 : BitVec 32) (k1_hw13 : k1_chk13 i v398 v403), ∀ (k1_h77 : k1_cond77 i v398 v403 = 1#1), (k1_t154_loop i v398 v403).OK := fun i v398 v403 k1_hw13 k1_h77 => k1_hw13.1.2.2.2.2.2.2.2.2.2.2.2.2.2.2.2.2.2.2.2.2.2.2.2.2.2.1 k1_h77
theorem k1_off615_inb : ∀ (i : grid1.Coords) (v398 : BitVec 32) (v403 : BitVec 32) (k1_hw13 : k1_chk13 i v398 v403) (k1_t154 : Fin (k1_t154_loop i v398 v403).trips), ∀ (k1_h77 : k1_cond77 i v398 v403 = 1#1), ∀ a, (k1_off615 i v398 v403 k1_t154) a + S1x16.size a ≤ S256x128.size a := fun i v398 v403 k1_hw13 k1_t154 k1_h77 => k1_hw13.1.2.2.2.2.2.2.2.2.2.2.2.2.2.2.2.2.2.2.2.2.2.2.2.2.2.2.1 k1_t154 k1_h77
theorem k1_off616_inb : ∀ (i : grid1.Coords) (v398 : BitVec 32) (v403 : BitVec 32) (k1_hw13 : k1_chk13 i v398 v403) (k1_t154 : Fin (k1_t154_loop i v398 v403).trips), ∀ (k1_h77 : k1_cond77 i v398 v403 = 1#1), ∀ a, (k1_off616 i v398 v403 k1_t154) a + S1x16.size a ≤ S256x128.size a := fun i v398 v403 k1_hw13 k1_t154 k1_h77 => k1_hw13.1.2.2.2.2.2.2.2.2.2.2.2.2.2.2.2.2.2.2.2.2.2.2.2.2.2.2.2.1 k1_t154 k1_h77
theorem k1_off617_inb : ∀ (i : grid1.Coords) (v398 : BitVec 32) (v403 : BitVec 32) (k1_hw13 : k1_chk13 i v398 v403) (k1_t154 : Fin (k1_t154_loop i v398 v403).trips), ∀ (k1_h77 : k1_cond77 i v398 v403 = 1#1), ∀ a, (k1_off617 i v398 v403 k1_t154) a + S1x16.size a ≤ S256x128.size a := fun i v398 v403 k1_hw13 k1_t154 k1_h77 => k1_hw13.1.2.2.2.2.2.2.2.2.2.2.2.2.2.2.2.2.2.2.2.2.2.2.2.2.2.2.2.2.1 k1_t154 k1_h77
theorem k1_off618_inb : ∀ (i : grid1.Coords) (v398 : BitVec 32) (v403 : BitVec 32) (k1_hw13 : k1_chk13 i v398 v403) (k1_t154 : Fin (k1_t154_loop i v398 v403).trips), ∀ (k1_h77 : k1_cond77 i v398 v403 = 1#1), ∀ a, (k1_off618 i v398 v403 k1_t154) a + S1x16.size a ≤ S256x128.size a := fun i v398 v403 k1_hw13 k1_t154 k1_h77 => k1_hw13.1.2.2.2.2.2.2.2.2.2.2.2.2.2.2.2.2.2.2.2.2.2.2.2.2.2.2.2.2.2.1 k1_t154 k1_h77
theorem k1_t217_ok : ∀ (i : grid1.Coords) (v398 : BitVec 32) (v403 : BitVec 32) (k1_hw13 : k1_chk13 i v398 v403), ∀ (k1_h109 : k1_cond109 i v398 v403 = 1#1), (k1_t217_loop i v398 v403).OK := fun i v398 v403 k1_hw13 k1_h109 => k1_hw13.1.2.2.2.2.2.2.2.2.2.2.2.2.2.2.2.2.2.2.2.2.2.2.2.2.2.2.2.2.2.2.1 k1_h109
theorem k1_off867_inb : ∀ (i : grid1.Coords) (v398 : BitVec 32) (v403 : BitVec 32) (k1_hw13 : k1_chk13 i v398 v403) (k1_t217 : Fin (k1_t217_loop i v398 v403).trips), ∀ (k1_h109 : k1_cond109 i v398 v403 = 1#1), ∀ a, (k1_off867 i v398 v403 k1_t217) a + S1x16.size a ≤ S256x128.size a := fun i v398 v403 k1_hw13 k1_t217 k1_h109 => k1_hw13.1.2.2.2.2.2.2.2.2.2.2.2.2.2.2.2.2.2.2.2.2.2.2.2.2.2.2.2.2.2.2.2 k1_t217 k1_h109
theorem k1_off868_inb : ∀ (i : grid1.Coords) (v398 : BitVec 32) (v403 : BitVec 32) (k1_hw13 : k1_chk13 i v398 v403) (k1_t217 : Fin (k1_t217_loop i v398 v403).trips), ∀ (k1_h109 : k1_cond109 i v398 v403 = 1#1), ∀ a, (k1_off868 i v398 v403 k1_t217) a + S1x16.size a ≤ S256x128.size a := fun i v398 v403 k1_hw13 k1_t217 k1_h109 => k1_hw13.2.1 k1_t217 k1_h109
theorem k1_off869_inb : ∀ (i : grid1.Coords) (v398 : BitVec 32) (v403 : BitVec 32) (k1_hw13 : k1_chk13 i v398 v403) (k1_t217 : Fin (k1_t217_loop i v398 v403).trips), ∀ (k1_h109 : k1_cond109 i v398 v403 = 1#1), ∀ a, (k1_off869 i v398 v403 k1_t217) a + S1x16.size a ≤ S256x128.size a := fun i v398 v403 k1_hw13 k1_t217 k1_h109 => k1_hw13.2.2.1 k1_t217 k1_h109
theorem k1_off870_inb : ∀ (i : grid1.Coords) (v398 : BitVec 32) (v403 : BitVec 32) (k1_hw13 : k1_chk13 i v398 v403) (k1_t217 : Fin (k1_t217_loop i v398 v403).trips), ∀ (k1_h109 : k1_cond109 i v398 v403 = 1#1), ∀ a, (k1_off870 i v398 v403 k1_t217) a + S1x16.size a ≤ S256x128.size a := fun i v398 v403 k1_hw13 k1_t217 k1_h109 => k1_hw13.2.2.2.1 k1_t217 k1_h109
theorem k1_t218_ok : ∀ (i : grid1.Coords) (v398 : BitVec 32) (v403 : BitVec 32) (k1_hw13 : k1_chk13 i v398 v403), ∀ (k1_h109 : k1_cond109 i v398 v403 = 1#1), (k1_t218_loop i v398 v403).OK := fun i v398 v403 k1_hw13 k1_h109 => k1_hw13.2.2.2.2.1 k1_h109
theorem k1_off871_inb : ∀ (i : grid1.Coords) (v398 : BitVec 32) (v403 : BitVec 32) (k1_hw13 : k1_chk13 i v398 v403) (k1_t218 : Fin (k1_t218_loop i v398 v403).trips), ∀ (k1_h109 : k1_cond109 i v398 v403 = 1#1), ∀ a, (k1_off871 i v398 v403 k1_t218) a + S1x16.size a ≤ S256x128.size a := fun i v398 v403 k1_hw13 k1_t218 k1_h109 => k1_hw13.2.2.2.2.2.1 k1_t218 k1_h109
theorem k1_off872_inb : ∀ (i : grid1.Coords) (v398 : BitVec 32) (v403 : BitVec 32) (k1_hw13 : k1_chk13 i v398 v403) (k1_t218 : Fin (k1_t218_loop i v398 v403).trips), ∀ (k1_h109 : k1_cond109 i v398 v403 = 1#1), ∀ a, (k1_off872 i v398 v403 k1_t218) a + S1x16.size a ≤ S256x128.size a := fun i v398 v403 k1_hw13 k1_t218 k1_h109 => k1_hw13.2.2.2.2.2.2.1 k1_t218 k1_h109
theorem k1_off873_inb : ∀ (i : grid1.Coords) (v398 : BitVec 32) (v403 : BitVec 32) (k1_hw13 : k1_chk13 i v398 v403) (k1_t218 : Fin (k1_t218_loop i v398 v403).trips), ∀ (k1_h109 : k1_cond109 i v398 v403 = 1#1), ∀ a, (k1_off873 i v398 v403 k1_t218) a + S1x16.size a ≤ S256x128.size a := fun i v398 v403 k1_hw13 k1_t218 k1_h109 => k1_hw13.2.2.2.2.2.2.2.1 k1_t218 k1_h109
theorem k1_off874_inb : ∀ (i : grid1.Coords) (v398 : BitVec 32) (v403 : BitVec 32) (k1_hw13 : k1_chk13 i v398 v403) (k1_t218 : Fin (k1_t218_loop i v398 v403).trips), ∀ (k1_h109 : k1_cond109 i v398 v403 = 1#1), ∀ a, (k1_off874 i v398 v403 k1_t218) a + S1x16.size a ≤ S256x128.size a := fun i v398 v403 k1_hw13 k1_t218 k1_h109 => k1_hw13.2.2.2.2.2.2.2.2 k1_t218 k1_h109

@[reducible] def k1_t219_loop (i : grid1.Coords) (v408 : BitVec 32) (v414 : BitVec 32) : Scf.Loop 32 :=
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let c256_i32_1060 : BitVec 32 := 256#32
  let c0_i32_1059 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c768_i32_1058 : BitVec 32 := 768#32
  let v1625 : BitVec 32 := Scalar.subi v418 c768_i32_1058
  let v1626 : BitVec 32 := Scalar.maxsi c0_i32_1059 v1625
  let v1627 : BitVec 32 := Scalar.minsi c256_i32_1060 v1626
  let v1805 : BitVec 32 := Scalar.subi v1627 v1624
  let c1_i32_1196 : BitVec 32 := 1#32
  let v1807 : BitVec 32 := Scalar.divsi v1805 c1_i32_1196
  let v1808 : BitVec 32 := Scalar.muli v1807 c1_i32_1196
  let v1809 : BitVec 32 := Scalar.addi v1624 v1808
  let c1_i32_1197 : BitVec 32 := 1#32
  ⟨v1624, v1809, c1_i32_1197⟩
def k1_cond110 (i : grid1.Coords) (v408 : BitVec 32) (v414 : BitVec 32) : BitVec 1 :=
  let c256_i32_1060 : BitVec 32 := 256#32
  let c0_i32_1059 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v416 : BitVec 32 := Scalar.subi v415 v3
  let v417 : BitVec 32 := Scalar.maxsi c0_i32_179 v416
  let v418 : BitVec 32 := Scalar.minsi c1024_i32_180 v417
  let c768_i32_1058 : BitVec 32 := 768#32
  let v1625 : BitVec 32 := Scalar.subi v418 c768_i32_1058
  let v1626 : BitVec 32 := Scalar.maxsi c0_i32_1059 v1625
  let v1627 : BitVec 32 := Scalar.minsi c256_i32_1060 v1626
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let v1628 : BitVec 1 := Scalar.cmpi .sgt v1627 v1624
  let v1629 : BitVec 32 := Scalar.extui v1628
  let c0_i32_1061 : BitVec 32 := 0#32
  let v1630 : BitVec 1 := Scalar.cmpi .ne v1629 c0_i32_1061
  v1630

def k1_off875 (i : grid1.Coords) (v408 : BitVec 32) (v414 : BitVec 32) (k1_t219 : Fin (k1_t219_loop i v408 v414).trips) : Fin 2 → Nat :=
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let c1_i32_1197 : BitVec 32 := 1#32
  let arg13 : BitVec 32 := Scf.iv v1624 c1_i32_1197 k1_t219
  let v1828 : Index := Scalar.indexCast arg13
  let c64 : Index := 64#32
  ![v1828.toNat, 64]
def k1_off876 (i : grid1.Coords) (v408 : BitVec 32) (v414 : BitVec 32) (k1_t219 : Fin (k1_t219_loop i v408 v414).trips) : Fin 2 → Nat :=
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let c1_i32_1197 : BitVec 32 := 1#32
  let arg13 : BitVec 32 := Scf.iv v1624 c1_i32_1197 k1_t219
  let v1832 : Index := Scalar.indexCast arg13
  let c80 : Index := 80#32
  ![v1832.toNat, 80]
def k1_off877 (i : grid1.Coords) (v408 : BitVec 32) (v414 : BitVec 32) (k1_t219 : Fin (k1_t219_loop i v408 v414).trips) : Fin 2 → Nat :=
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let c1_i32_1197 : BitVec 32 := 1#32
  let arg13 : BitVec 32 := Scf.iv v1624 c1_i32_1197 k1_t219
  let v1836 : Index := Scalar.indexCast arg13
  let c96 : Index := 96#32
  ![v1836.toNat, 96]
def k1_off878 (i : grid1.Coords) (v408 : BitVec 32) (v414 : BitVec 32) (k1_t219 : Fin (k1_t219_loop i v408 v414).trips) : Fin 2 → Nat :=
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let c1_i32_1197 : BitVec 32 := 1#32
  let arg13 : BitVec 32 := Scf.iv v1624 c1_i32_1197 k1_t219
  let v1840 : Index := Scalar.indexCast arg13
  let c112 : Index := 112#32
  ![v1840.toNat, 112]
@[reducible] def k1_t220_loop (i : grid1.Coords) (v408 : BitVec 32) (v414 : BitVec 32) : Scf.Loop 32 :=
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let c256_i32_1060 : BitVec 32 := 256#32
  let c0_i32_1059 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c768_i32_1058 : BitVec 32 := 768#32
  let v1625 : BitVec 32 := Scalar.subi v418 c768_i32_1058
  let v1626 : BitVec 32 := Scalar.maxsi c0_i32_1059 v1625
  let v1627 : BitVec 32 := Scalar.minsi c256_i32_1060 v1626
  let v1805 : BitVec 32 := Scalar.subi v1627 v1624
  let c1_i32_1196 : BitVec 32 := 1#32
  let v1807 : BitVec 32 := Scalar.divsi v1805 c1_i32_1196
  let v1808 : BitVec 32 := Scalar.muli v1807 c1_i32_1196
  let v1809 : BitVec 32 := Scalar.addi v1624 v1808
  let v1806 : BitVec 32 := Scalar.addi v1624 v1805
  let c1_i32_1198 : BitVec 32 := 1#32
  ⟨v1809, v1806, c1_i32_1198⟩
def k1_off879 (i : grid1.Coords) (v408 : BitVec 32) (v414 : BitVec 32) (k1_t220 : Fin (k1_t220_loop i v408 v414).trips) : Fin 2 → Nat :=
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let c256_i32_1060 : BitVec 32 := 256#32
  let c0_i32_1059 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c768_i32_1058 : BitVec 32 := 768#32
  let v1625 : BitVec 32 := Scalar.subi v418 c768_i32_1058
  let v1626 : BitVec 32 := Scalar.maxsi c0_i32_1059 v1625
  let v1627 : BitVec 32 := Scalar.minsi c256_i32_1060 v1626
  let v1805 : BitVec 32 := Scalar.subi v1627 v1624
  let c1_i32_1196 : BitVec 32 := 1#32
  let v1807 : BitVec 32 := Scalar.divsi v1805 c1_i32_1196
  let v1808 : BitVec 32 := Scalar.muli v1807 c1_i32_1196
  let v1809 : BitVec 32 := Scalar.addi v1624 v1808
  let c1_i32_1198 : BitVec 32 := 1#32
  let arg13 : BitVec 32 := Scf.iv v1809 c1_i32_1198 k1_t220
  let v1828 : Index := Scalar.indexCast arg13
  let c64 : Index := 64#32
  ![v1828.toNat, 64]
def k1_off880 (i : grid1.Coords) (v408 : BitVec 32) (v414 : BitVec 32) (k1_t220 : Fin (k1_t220_loop i v408 v414).trips) : Fin 2 → Nat :=
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let c256_i32_1060 : BitVec 32 := 256#32
  let c0_i32_1059 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c768_i32_1058 : BitVec 32 := 768#32
  let v1625 : BitVec 32 := Scalar.subi v418 c768_i32_1058
  let v1626 : BitVec 32 := Scalar.maxsi c0_i32_1059 v1625
  let v1627 : BitVec 32 := Scalar.minsi c256_i32_1060 v1626
  let v1805 : BitVec 32 := Scalar.subi v1627 v1624
  let c1_i32_1196 : BitVec 32 := 1#32
  let v1807 : BitVec 32 := Scalar.divsi v1805 c1_i32_1196
  let v1808 : BitVec 32 := Scalar.muli v1807 c1_i32_1196
  let v1809 : BitVec 32 := Scalar.addi v1624 v1808
  let c1_i32_1198 : BitVec 32 := 1#32
  let arg13 : BitVec 32 := Scf.iv v1809 c1_i32_1198 k1_t220
  let v1832 : Index := Scalar.indexCast arg13
  let c80 : Index := 80#32
  ![v1832.toNat, 80]
def k1_off881 (i : grid1.Coords) (v408 : BitVec 32) (v414 : BitVec 32) (k1_t220 : Fin (k1_t220_loop i v408 v414).trips) : Fin 2 → Nat :=
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let c256_i32_1060 : BitVec 32 := 256#32
  let c0_i32_1059 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c768_i32_1058 : BitVec 32 := 768#32
  let v1625 : BitVec 32 := Scalar.subi v418 c768_i32_1058
  let v1626 : BitVec 32 := Scalar.maxsi c0_i32_1059 v1625
  let v1627 : BitVec 32 := Scalar.minsi c256_i32_1060 v1626
  let v1805 : BitVec 32 := Scalar.subi v1627 v1624
  let c1_i32_1196 : BitVec 32 := 1#32
  let v1807 : BitVec 32 := Scalar.divsi v1805 c1_i32_1196
  let v1808 : BitVec 32 := Scalar.muli v1807 c1_i32_1196
  let v1809 : BitVec 32 := Scalar.addi v1624 v1808
  let c1_i32_1198 : BitVec 32 := 1#32
  let arg13 : BitVec 32 := Scf.iv v1809 c1_i32_1198 k1_t220
  let v1836 : Index := Scalar.indexCast arg13
  let c96 : Index := 96#32
  ![v1836.toNat, 96]
def k1_off882 (i : grid1.Coords) (v408 : BitVec 32) (v414 : BitVec 32) (k1_t220 : Fin (k1_t220_loop i v408 v414).trips) : Fin 2 → Nat :=
  let c256_i32_1057 : BitVec 32 := 256#32
  let c0_i32_1056 : BitVec 32 := 0#32
  let c1024_i32_177 : BitVec 32 := 1024#32
  let c0_i32_176 : BitVec 32 := 0#32
  let c65536_i32_175 : BitVec 32 := 65536#32
  let v409 : BitVec 32 := Scalar.subi v408 c65536_i32_175
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v410 : BitVec 32 := Scalar.subi v409 v3
  let v411 : BitVec 32 := Scalar.maxsi c0_i32_176 v410
  let v412 : BitVec 32 := Scalar.minsi c1024_i32_177 v411
  let c768_i32_1055 : BitVec 32 := 768#32
  let v1622 : BitVec 32 := Scalar.subi v412 c768_i32_1055
  let v1623 : BitVec 32 := Scalar.maxsi c0_i32_1056 v1622
  let v1624 : BitVec 32 := Scalar.minsi c256_i32_1057 v1623
  let c256_i32_1060 : BitVec 32 := 256#32
  let c0_i32_1059 : BitVec 32 := 0#32
  let c1024_i32_180 : BitVec 32 := 1024#32
  let c0_i32_179 : BitVec 32 := 0#32
  let c65536_i32_178 : BitVec 32 := 65536#32
  let v415 : BitVec 32 := Scalar.subi v414 c65536_i32_178
  let v416 : BitVec 32 := Scalar.subi v415 v3
  let v417 : BitVec 32 := Scalar.maxsi c0_i32_179 v416
  let v418 : BitVec 32 := Scalar.minsi c1024_i32_180 v417
  let c768_i32_1058 : BitVec 32 := 768#32
  let v1625 : BitVec 32 := Scalar.subi v418 c768_i32_1058
  let v1626 : BitVec 32 := Scalar.maxsi c0_i32_1059 v1625
  let v1627 : BitVec 32 := Scalar.minsi c256_i32_1060 v1626
  let v1805 : BitVec 32 := Scalar.subi v1627 v1624
  let c1_i32_1196 : BitVec 32 := 1#32
  let v1807 : BitVec 32 := Scalar.divsi v1805 c1_i32_1196
  let v1808 : BitVec 32 := Scalar.muli v1807 c1_i32_1196
  let v1809 : BitVec 32 := Scalar.addi v1624 v1808
  let c1_i32_1198 : BitVec 32 := 1#32
  let arg13 : BitVec 32 := Scf.iv v1809 c1_i32_1198 k1_t220
  let v1840 : Index := Scalar.indexCast arg13
  let c112 : Index := 112#32
  ![v1840.toNat, 112]

def k1_chk14_0 (i : grid1.Coords) (v408 : BitVec 32) (v414 : BitVec 32) : Prop :=
  (∀ (k1_h14 : k1_cond14 i v408 v414 = 1#1), (k1_t27_loop i v408 v414).OK) ∧
  (∀ k1_t27 : Fin (k1_t27_loop i v408 v414).trips, ∀ (k1_h14 : k1_cond14 i v408 v414 = 1#1), ∀ a, (k1_off106 i v408 v414 k1_t27) a + S1x16.size a ≤ S256x128.size a) ∧
  (∀ k1_t27 : Fin (k1_t27_loop i v408 v414).trips, ∀ (k1_h14 : k1_cond14 i v408 v414 = 1#1), ∀ a, (k1_off107 i v408 v414 k1_t27) a + S1x16.size a ≤ S256x128.size a) ∧
  (∀ k1_t27 : Fin (k1_t27_loop i v408 v414).trips, ∀ (k1_h14 : k1_cond14 i v408 v414 = 1#1), ∀ a, (k1_off108 i v408 v414 k1_t27) a + S1x16.size a ≤ S256x128.size a) ∧
  (∀ k1_t27 : Fin (k1_t27_loop i v408 v414).trips, ∀ (k1_h14 : k1_cond14 i v408 v414 = 1#1), ∀ a, (k1_off109 i v408 v414 k1_t27) a + S1x16.size a ≤ S256x128.size a) ∧
  (∀ (k1_h14 : k1_cond14 i v408 v414 = 1#1), (k1_t28_loop i v408 v414).OK) ∧
  (∀ k1_t28 : Fin (k1_t28_loop i v408 v414).trips, ∀ (k1_h14 : k1_cond14 i v408 v414 = 1#1), ∀ a, (k1_off110 i v408 v414 k1_t28) a + S1x16.size a ≤ S256x128.size a) ∧
  (∀ k1_t28 : Fin (k1_t28_loop i v408 v414).trips, ∀ (k1_h14 : k1_cond14 i v408 v414 = 1#1), ∀ a, (k1_off111 i v408 v414 k1_t28) a + S1x16.size a ≤ S256x128.size a) ∧
  (∀ k1_t28 : Fin (k1_t28_loop i v408 v414).trips, ∀ (k1_h14 : k1_cond14 i v408 v414 = 1#1), ∀ a, (k1_off112 i v408 v414 k1_t28) a + S1x16.size a ≤ S256x128.size a) ∧
  (∀ k1_t28 : Fin (k1_t28_loop i v408 v414).trips, ∀ (k1_h14 : k1_cond14 i v408 v414 = 1#1), ∀ a, (k1_off113 i v408 v414 k1_t28) a + S1x16.size a ≤ S256x128.size a) ∧
  (∀ (k1_h46 : k1_cond46 i v408 v414 = 1#1), (k1_t91_loop i v408 v414).OK) ∧
  (∀ k1_t91 : Fin (k1_t91_loop i v408 v414).trips, ∀ (k1_h46 : k1_cond46 i v408 v414 = 1#1), ∀ a, (k1_off363 i v408 v414 k1_t91) a + S1x16.size a ≤ S256x128.size a) ∧
  (∀ k1_t91 : Fin (k1_t91_loop i v408 v414).trips, ∀ (k1_h46 : k1_cond46 i v408 v414 = 1#1), ∀ a, (k1_off364 i v408 v414 k1_t91) a + S1x16.size a ≤ S256x128.size a) ∧
  (∀ k1_t91 : Fin (k1_t91_loop i v408 v414).trips, ∀ (k1_h46 : k1_cond46 i v408 v414 = 1#1), ∀ a, (k1_off365 i v408 v414 k1_t91) a + S1x16.size a ≤ S256x128.size a) ∧
  (∀ k1_t91 : Fin (k1_t91_loop i v408 v414).trips, ∀ (k1_h46 : k1_cond46 i v408 v414 = 1#1), ∀ a, (k1_off366 i v408 v414 k1_t91) a + S1x16.size a ≤ S256x128.size a) ∧
  (∀ (k1_h46 : k1_cond46 i v408 v414 = 1#1), (k1_t92_loop i v408 v414).OK) ∧
  (∀ k1_t92 : Fin (k1_t92_loop i v408 v414).trips, ∀ (k1_h46 : k1_cond46 i v408 v414 = 1#1), ∀ a, (k1_off367 i v408 v414 k1_t92) a + S1x16.size a ≤ S256x128.size a) ∧
  (∀ k1_t92 : Fin (k1_t92_loop i v408 v414).trips, ∀ (k1_h46 : k1_cond46 i v408 v414 = 1#1), ∀ a, (k1_off368 i v408 v414 k1_t92) a + S1x16.size a ≤ S256x128.size a) ∧
  (∀ k1_t92 : Fin (k1_t92_loop i v408 v414).trips, ∀ (k1_h46 : k1_cond46 i v408 v414 = 1#1), ∀ a, (k1_off369 i v408 v414 k1_t92) a + S1x16.size a ≤ S256x128.size a) ∧
  (∀ k1_t92 : Fin (k1_t92_loop i v408 v414).trips, ∀ (k1_h46 : k1_cond46 i v408 v414 = 1#1), ∀ a, (k1_off370 i v408 v414 k1_t92) a + S1x16.size a ≤ S256x128.size a) ∧
  (∀ (k1_h78 : k1_cond78 i v408 v414 = 1#1), (k1_t155_loop i v408 v414).OK) ∧
  (∀ k1_t155 : Fin (k1_t155_loop i v408 v414).trips, ∀ (k1_h78 : k1_cond78 i v408 v414 = 1#1), ∀ a, (k1_off619 i v408 v414 k1_t155) a + S1x16.size a ≤ S256x128.size a) ∧
  (∀ k1_t155 : Fin (k1_t155_loop i v408 v414).trips, ∀ (k1_h78 : k1_cond78 i v408 v414 = 1#1), ∀ a, (k1_off620 i v408 v414 k1_t155) a + S1x16.size a ≤ S256x128.size a) ∧
  (∀ k1_t155 : Fin (k1_t155_loop i v408 v414).trips, ∀ (k1_h78 : k1_cond78 i v408 v414 = 1#1), ∀ a, (k1_off621 i v408 v414 k1_t155) a + S1x16.size a ≤ S256x128.size a) ∧
  (∀ k1_t155 : Fin (k1_t155_loop i v408 v414).trips, ∀ (k1_h78 : k1_cond78 i v408 v414 = 1#1), ∀ a, (k1_off622 i v408 v414 k1_t155) a + S1x16.size a ≤ S256x128.size a) ∧
  (∀ (k1_h78 : k1_cond78 i v408 v414 = 1#1), (k1_t156_loop i v408 v414).OK) ∧
  (∀ k1_t156 : Fin (k1_t156_loop i v408 v414).trips, ∀ (k1_h78 : k1_cond78 i v408 v414 = 1#1), ∀ a, (k1_off623 i v408 v414 k1_t156) a + S1x16.size a ≤ S256x128.size a) ∧
  (∀ k1_t156 : Fin (k1_t156_loop i v408 v414).trips, ∀ (k1_h78 : k1_cond78 i v408 v414 = 1#1), ∀ a, (k1_off624 i v408 v414 k1_t156) a + S1x16.size a ≤ S256x128.size a) ∧
  (∀ k1_t156 : Fin (k1_t156_loop i v408 v414).trips, ∀ (k1_h78 : k1_cond78 i v408 v414 = 1#1), ∀ a, (k1_off625 i v408 v414 k1_t156) a + S1x16.size a ≤ S256x128.size a) ∧
  (∀ k1_t156 : Fin (k1_t156_loop i v408 v414).trips, ∀ (k1_h78 : k1_cond78 i v408 v414 = 1#1), ∀ a, (k1_off626 i v408 v414 k1_t156) a + S1x16.size a ≤ S256x128.size a) ∧
  (∀ (k1_h110 : k1_cond110 i v408 v414 = 1#1), (k1_t219_loop i v408 v414).OK) ∧
  (∀ k1_t219 : Fin (k1_t219_loop i v408 v414).trips, ∀ (k1_h110 : k1_cond110 i v408 v414 = 1#1), ∀ a, (k1_off875 i v408 v414 k1_t219) a + S1x16.size a ≤ S256x128.size a)
def k1_chk14_1 (i : grid1.Coords) (v408 : BitVec 32) (v414 : BitVec 32) : Prop :=
  (∀ k1_t219 : Fin (k1_t219_loop i v408 v414).trips, ∀ (k1_h110 : k1_cond110 i v408 v414 = 1#1), ∀ a, (k1_off876 i v408 v414 k1_t219) a + S1x16.size a ≤ S256x128.size a) ∧
  (∀ k1_t219 : Fin (k1_t219_loop i v408 v414).trips, ∀ (k1_h110 : k1_cond110 i v408 v414 = 1#1), ∀ a, (k1_off877 i v408 v414 k1_t219) a + S1x16.size a ≤ S256x128.size a) ∧
  (∀ k1_t219 : Fin (k1_t219_loop i v408 v414).trips, ∀ (k1_h110 : k1_cond110 i v408 v414 = 1#1), ∀ a, (k1_off878 i v408 v414 k1_t219) a + S1x16.size a ≤ S256x128.size a) ∧
  (∀ (k1_h110 : k1_cond110 i v408 v414 = 1#1), (k1_t220_loop i v408 v414).OK) ∧
  (∀ k1_t220 : Fin (k1_t220_loop i v408 v414).trips, ∀ (k1_h110 : k1_cond110 i v408 v414 = 1#1), ∀ a, (k1_off879 i v408 v414 k1_t220) a + S1x16.size a ≤ S256x128.size a) ∧
  (∀ k1_t220 : Fin (k1_t220_loop i v408 v414).trips, ∀ (k1_h110 : k1_cond110 i v408 v414 = 1#1), ∀ a, (k1_off880 i v408 v414 k1_t220) a + S1x16.size a ≤ S256x128.size a) ∧
  (∀ k1_t220 : Fin (k1_t220_loop i v408 v414).trips, ∀ (k1_h110 : k1_cond110 i v408 v414 = 1#1), ∀ a, (k1_off881 i v408 v414 k1_t220) a + S1x16.size a ≤ S256x128.size a) ∧
  (∀ k1_t220 : Fin (k1_t220_loop i v408 v414).trips, ∀ (k1_h110 : k1_cond110 i v408 v414 = 1#1), ∀ a, (k1_off882 i v408 v414 k1_t220) a + S1x16.size a ≤ S256x128.size a)
def k1_chk14 (i : grid1.Coords) (v408 : BitVec 32) (v414 : BitVec 32) : Prop :=
  k1_chk14_0 i v408 v414 ∧
  k1_chk14_1 i v408 v414
theorem k1_t27_ok : ∀ (i : grid1.Coords) (v408 : BitVec 32) (v414 : BitVec 32) (k1_hw14 : k1_chk14 i v408 v414), ∀ (k1_h14 : k1_cond14 i v408 v414 = 1#1), (k1_t27_loop i v408 v414).OK := fun i v408 v414 k1_hw14 k1_h14 => k1_hw14.1.1 k1_h14
theorem k1_off106_inb : ∀ (i : grid1.Coords) (v408 : BitVec 32) (v414 : BitVec 32) (k1_hw14 : k1_chk14 i v408 v414) (k1_t27 : Fin (k1_t27_loop i v408 v414).trips), ∀ (k1_h14 : k1_cond14 i v408 v414 = 1#1), ∀ a, (k1_off106 i v408 v414 k1_t27) a + S1x16.size a ≤ S256x128.size a := fun i v408 v414 k1_hw14 k1_t27 k1_h14 => k1_hw14.1.2.1 k1_t27 k1_h14
theorem k1_off107_inb : ∀ (i : grid1.Coords) (v408 : BitVec 32) (v414 : BitVec 32) (k1_hw14 : k1_chk14 i v408 v414) (k1_t27 : Fin (k1_t27_loop i v408 v414).trips), ∀ (k1_h14 : k1_cond14 i v408 v414 = 1#1), ∀ a, (k1_off107 i v408 v414 k1_t27) a + S1x16.size a ≤ S256x128.size a := fun i v408 v414 k1_hw14 k1_t27 k1_h14 => k1_hw14.1.2.2.1 k1_t27 k1_h14
theorem k1_off108_inb : ∀ (i : grid1.Coords) (v408 : BitVec 32) (v414 : BitVec 32) (k1_hw14 : k1_chk14 i v408 v414) (k1_t27 : Fin (k1_t27_loop i v408 v414).trips), ∀ (k1_h14 : k1_cond14 i v408 v414 = 1#1), ∀ a, (k1_off108 i v408 v414 k1_t27) a + S1x16.size a ≤ S256x128.size a := fun i v408 v414 k1_hw14 k1_t27 k1_h14 => k1_hw14.1.2.2.2.1 k1_t27 k1_h14
theorem k1_off109_inb : ∀ (i : grid1.Coords) (v408 : BitVec 32) (v414 : BitVec 32) (k1_hw14 : k1_chk14 i v408 v414) (k1_t27 : Fin (k1_t27_loop i v408 v414).trips), ∀ (k1_h14 : k1_cond14 i v408 v414 = 1#1), ∀ a, (k1_off109 i v408 v414 k1_t27) a + S1x16.size a ≤ S256x128.size a := fun i v408 v414 k1_hw14 k1_t27 k1_h14 => k1_hw14.1.2.2.2.2.1 k1_t27 k1_h14
theorem k1_t28_ok : ∀ (i : grid1.Coords) (v408 : BitVec 32) (v414 : BitVec 32) (k1_hw14 : k1_chk14 i v408 v414), ∀ (k1_h14 : k1_cond14 i v408 v414 = 1#1), (k1_t28_loop i v408 v414).OK := fun i v408 v414 k1_hw14 k1_h14 => k1_hw14.1.2.2.2.2.2.1 k1_h14
theorem k1_off110_inb : ∀ (i : grid1.Coords) (v408 : BitVec 32) (v414 : BitVec 32) (k1_hw14 : k1_chk14 i v408 v414) (k1_t28 : Fin (k1_t28_loop i v408 v414).trips), ∀ (k1_h14 : k1_cond14 i v408 v414 = 1#1), ∀ a, (k1_off110 i v408 v414 k1_t28) a + S1x16.size a ≤ S256x128.size a := fun i v408 v414 k1_hw14 k1_t28 k1_h14 => k1_hw14.1.2.2.2.2.2.2.1 k1_t28 k1_h14
theorem k1_off111_inb : ∀ (i : grid1.Coords) (v408 : BitVec 32) (v414 : BitVec 32) (k1_hw14 : k1_chk14 i v408 v414) (k1_t28 : Fin (k1_t28_loop i v408 v414).trips), ∀ (k1_h14 : k1_cond14 i v408 v414 = 1#1), ∀ a, (k1_off111 i v408 v414 k1_t28) a + S1x16.size a ≤ S256x128.size a := fun i v408 v414 k1_hw14 k1_t28 k1_h14 => k1_hw14.1.2.2.2.2.2.2.2.1 k1_t28 k1_h14
theorem k1_off112_inb : ∀ (i : grid1.Coords) (v408 : BitVec 32) (v414 : BitVec 32) (k1_hw14 : k1_chk14 i v408 v414) (k1_t28 : Fin (k1_t28_loop i v408 v414).trips), ∀ (k1_h14 : k1_cond14 i v408 v414 = 1#1), ∀ a, (k1_off112 i v408 v414 k1_t28) a + S1x16.size a ≤ S256x128.size a := fun i v408 v414 k1_hw14 k1_t28 k1_h14 => k1_hw14.1.2.2.2.2.2.2.2.2.1 k1_t28 k1_h14
theorem k1_off113_inb : ∀ (i : grid1.Coords) (v408 : BitVec 32) (v414 : BitVec 32) (k1_hw14 : k1_chk14 i v408 v414) (k1_t28 : Fin (k1_t28_loop i v408 v414).trips), ∀ (k1_h14 : k1_cond14 i v408 v414 = 1#1), ∀ a, (k1_off113 i v408 v414 k1_t28) a + S1x16.size a ≤ S256x128.size a := fun i v408 v414 k1_hw14 k1_t28 k1_h14 => k1_hw14.1.2.2.2.2.2.2.2.2.2.1 k1_t28 k1_h14
theorem k1_t91_ok : ∀ (i : grid1.Coords) (v408 : BitVec 32) (v414 : BitVec 32) (k1_hw14 : k1_chk14 i v408 v414), ∀ (k1_h46 : k1_cond46 i v408 v414 = 1#1), (k1_t91_loop i v408 v414).OK := fun i v408 v414 k1_hw14 k1_h46 => k1_hw14.1.2.2.2.2.2.2.2.2.2.2.1 k1_h46
theorem k1_off363_inb : ∀ (i : grid1.Coords) (v408 : BitVec 32) (v414 : BitVec 32) (k1_hw14 : k1_chk14 i v408 v414) (k1_t91 : Fin (k1_t91_loop i v408 v414).trips), ∀ (k1_h46 : k1_cond46 i v408 v414 = 1#1), ∀ a, (k1_off363 i v408 v414 k1_t91) a + S1x16.size a ≤ S256x128.size a := fun i v408 v414 k1_hw14 k1_t91 k1_h46 => k1_hw14.1.2.2.2.2.2.2.2.2.2.2.2.1 k1_t91 k1_h46
theorem k1_off364_inb : ∀ (i : grid1.Coords) (v408 : BitVec 32) (v414 : BitVec 32) (k1_hw14 : k1_chk14 i v408 v414) (k1_t91 : Fin (k1_t91_loop i v408 v414).trips), ∀ (k1_h46 : k1_cond46 i v408 v414 = 1#1), ∀ a, (k1_off364 i v408 v414 k1_t91) a + S1x16.size a ≤ S256x128.size a := fun i v408 v414 k1_hw14 k1_t91 k1_h46 => k1_hw14.1.2.2.2.2.2.2.2.2.2.2.2.2.1 k1_t91 k1_h46
theorem k1_off365_inb : ∀ (i : grid1.Coords) (v408 : BitVec 32) (v414 : BitVec 32) (k1_hw14 : k1_chk14 i v408 v414) (k1_t91 : Fin (k1_t91_loop i v408 v414).trips), ∀ (k1_h46 : k1_cond46 i v408 v414 = 1#1), ∀ a, (k1_off365 i v408 v414 k1_t91) a + S1x16.size a ≤ S256x128.size a := fun i v408 v414 k1_hw14 k1_t91 k1_h46 => k1_hw14.1.2.2.2.2.2.2.2.2.2.2.2.2.2.1 k1_t91 k1_h46
theorem k1_off366_inb : ∀ (i : grid1.Coords) (v408 : BitVec 32) (v414 : BitVec 32) (k1_hw14 : k1_chk14 i v408 v414) (k1_t91 : Fin (k1_t91_loop i v408 v414).trips), ∀ (k1_h46 : k1_cond46 i v408 v414 = 1#1), ∀ a, (k1_off366 i v408 v414 k1_t91) a + S1x16.size a ≤ S256x128.size a := fun i v408 v414 k1_hw14 k1_t91 k1_h46 => k1_hw14.1.2.2.2.2.2.2.2.2.2.2.2.2.2.2.1 k1_t91 k1_h46
theorem k1_t92_ok : ∀ (i : grid1.Coords) (v408 : BitVec 32) (v414 : BitVec 32) (k1_hw14 : k1_chk14 i v408 v414), ∀ (k1_h46 : k1_cond46 i v408 v414 = 1#1), (k1_t92_loop i v408 v414).OK := fun i v408 v414 k1_hw14 k1_h46 => k1_hw14.1.2.2.2.2.2.2.2.2.2.2.2.2.2.2.2.1 k1_h46
theorem k1_off367_inb : ∀ (i : grid1.Coords) (v408 : BitVec 32) (v414 : BitVec 32) (k1_hw14 : k1_chk14 i v408 v414) (k1_t92 : Fin (k1_t92_loop i v408 v414).trips), ∀ (k1_h46 : k1_cond46 i v408 v414 = 1#1), ∀ a, (k1_off367 i v408 v414 k1_t92) a + S1x16.size a ≤ S256x128.size a := fun i v408 v414 k1_hw14 k1_t92 k1_h46 => k1_hw14.1.2.2.2.2.2.2.2.2.2.2.2.2.2.2.2.2.1 k1_t92 k1_h46
theorem k1_off368_inb : ∀ (i : grid1.Coords) (v408 : BitVec 32) (v414 : BitVec 32) (k1_hw14 : k1_chk14 i v408 v414) (k1_t92 : Fin (k1_t92_loop i v408 v414).trips), ∀ (k1_h46 : k1_cond46 i v408 v414 = 1#1), ∀ a, (k1_off368 i v408 v414 k1_t92) a + S1x16.size a ≤ S256x128.size a := fun i v408 v414 k1_hw14 k1_t92 k1_h46 => k1_hw14.1.2.2.2.2.2.2.2.2.2.2.2.2.2.2.2.2.2.1 k1_t92 k1_h46
theorem k1_off369_inb : ∀ (i : grid1.Coords) (v408 : BitVec 32) (v414 : BitVec 32) (k1_hw14 : k1_chk14 i v408 v414) (k1_t92 : Fin (k1_t92_loop i v408 v414).trips), ∀ (k1_h46 : k1_cond46 i v408 v414 = 1#1), ∀ a, (k1_off369 i v408 v414 k1_t92) a + S1x16.size a ≤ S256x128.size a := fun i v408 v414 k1_hw14 k1_t92 k1_h46 => k1_hw14.1.2.2.2.2.2.2.2.2.2.2.2.2.2.2.2.2.2.2.1 k1_t92 k1_h46
theorem k1_off370_inb : ∀ (i : grid1.Coords) (v408 : BitVec 32) (v414 : BitVec 32) (k1_hw14 : k1_chk14 i v408 v414) (k1_t92 : Fin (k1_t92_loop i v408 v414).trips), ∀ (k1_h46 : k1_cond46 i v408 v414 = 1#1), ∀ a, (k1_off370 i v408 v414 k1_t92) a + S1x16.size a ≤ S256x128.size a := fun i v408 v414 k1_hw14 k1_t92 k1_h46 => k1_hw14.1.2.2.2.2.2.2.2.2.2.2.2.2.2.2.2.2.2.2.2.1 k1_t92 k1_h46
theorem k1_t155_ok : ∀ (i : grid1.Coords) (v408 : BitVec 32) (v414 : BitVec 32) (k1_hw14 : k1_chk14 i v408 v414), ∀ (k1_h78 : k1_cond78 i v408 v414 = 1#1), (k1_t155_loop i v408 v414).OK := fun i v408 v414 k1_hw14 k1_h78 => k1_hw14.1.2.2.2.2.2.2.2.2.2.2.2.2.2.2.2.2.2.2.2.2.1 k1_h78
theorem k1_off619_inb : ∀ (i : grid1.Coords) (v408 : BitVec 32) (v414 : BitVec 32) (k1_hw14 : k1_chk14 i v408 v414) (k1_t155 : Fin (k1_t155_loop i v408 v414).trips), ∀ (k1_h78 : k1_cond78 i v408 v414 = 1#1), ∀ a, (k1_off619 i v408 v414 k1_t155) a + S1x16.size a ≤ S256x128.size a := fun i v408 v414 k1_hw14 k1_t155 k1_h78 => k1_hw14.1.2.2.2.2.2.2.2.2.2.2.2.2.2.2.2.2.2.2.2.2.2.1 k1_t155 k1_h78
theorem k1_off620_inb : ∀ (i : grid1.Coords) (v408 : BitVec 32) (v414 : BitVec 32) (k1_hw14 : k1_chk14 i v408 v414) (k1_t155 : Fin (k1_t155_loop i v408 v414).trips), ∀ (k1_h78 : k1_cond78 i v408 v414 = 1#1), ∀ a, (k1_off620 i v408 v414 k1_t155) a + S1x16.size a ≤ S256x128.size a := fun i v408 v414 k1_hw14 k1_t155 k1_h78 => k1_hw14.1.2.2.2.2.2.2.2.2.2.2.2.2.2.2.2.2.2.2.2.2.2.2.1 k1_t155 k1_h78
theorem k1_off621_inb : ∀ (i : grid1.Coords) (v408 : BitVec 32) (v414 : BitVec 32) (k1_hw14 : k1_chk14 i v408 v414) (k1_t155 : Fin (k1_t155_loop i v408 v414).trips), ∀ (k1_h78 : k1_cond78 i v408 v414 = 1#1), ∀ a, (k1_off621 i v408 v414 k1_t155) a + S1x16.size a ≤ S256x128.size a := fun i v408 v414 k1_hw14 k1_t155 k1_h78 => k1_hw14.1.2.2.2.2.2.2.2.2.2.2.2.2.2.2.2.2.2.2.2.2.2.2.2.1 k1_t155 k1_h78
theorem k1_off622_inb : ∀ (i : grid1.Coords) (v408 : BitVec 32) (v414 : BitVec 32) (k1_hw14 : k1_chk14 i v408 v414) (k1_t155 : Fin (k1_t155_loop i v408 v414).trips), ∀ (k1_h78 : k1_cond78 i v408 v414 = 1#1), ∀ a, (k1_off622 i v408 v414 k1_t155) a + S1x16.size a ≤ S256x128.size a := fun i v408 v414 k1_hw14 k1_t155 k1_h78 => k1_hw14.1.2.2.2.2.2.2.2.2.2.2.2.2.2.2.2.2.2.2.2.2.2.2.2.2.1 k1_t155 k1_h78
theorem k1_t156_ok : ∀ (i : grid1.Coords) (v408 : BitVec 32) (v414 : BitVec 32) (k1_hw14 : k1_chk14 i v408 v414), ∀ (k1_h78 : k1_cond78 i v408 v414 = 1#1), (k1_t156_loop i v408 v414).OK := fun i v408 v414 k1_hw14 k1_h78 => k1_hw14.1.2.2.2.2.2.2.2.2.2.2.2.2.2.2.2.2.2.2.2.2.2.2.2.2.2.1 k1_h78
theorem k1_off623_inb : ∀ (i : grid1.Coords) (v408 : BitVec 32) (v414 : BitVec 32) (k1_hw14 : k1_chk14 i v408 v414) (k1_t156 : Fin (k1_t156_loop i v408 v414).trips), ∀ (k1_h78 : k1_cond78 i v408 v414 = 1#1), ∀ a, (k1_off623 i v408 v414 k1_t156) a + S1x16.size a ≤ S256x128.size a := fun i v408 v414 k1_hw14 k1_t156 k1_h78 => k1_hw14.1.2.2.2.2.2.2.2.2.2.2.2.2.2.2.2.2.2.2.2.2.2.2.2.2.2.2.1 k1_t156 k1_h78
theorem k1_off624_inb : ∀ (i : grid1.Coords) (v408 : BitVec 32) (v414 : BitVec 32) (k1_hw14 : k1_chk14 i v408 v414) (k1_t156 : Fin (k1_t156_loop i v408 v414).trips), ∀ (k1_h78 : k1_cond78 i v408 v414 = 1#1), ∀ a, (k1_off624 i v408 v414 k1_t156) a + S1x16.size a ≤ S256x128.size a := fun i v408 v414 k1_hw14 k1_t156 k1_h78 => k1_hw14.1.2.2.2.2.2.2.2.2.2.2.2.2.2.2.2.2.2.2.2.2.2.2.2.2.2.2.2.1 k1_t156 k1_h78
theorem k1_off625_inb : ∀ (i : grid1.Coords) (v408 : BitVec 32) (v414 : BitVec 32) (k1_hw14 : k1_chk14 i v408 v414) (k1_t156 : Fin (k1_t156_loop i v408 v414).trips), ∀ (k1_h78 : k1_cond78 i v408 v414 = 1#1), ∀ a, (k1_off625 i v408 v414 k1_t156) a + S1x16.size a ≤ S256x128.size a := fun i v408 v414 k1_hw14 k1_t156 k1_h78 => k1_hw14.1.2.2.2.2.2.2.2.2.2.2.2.2.2.2.2.2.2.2.2.2.2.2.2.2.2.2.2.2.1 k1_t156 k1_h78
theorem k1_off626_inb : ∀ (i : grid1.Coords) (v408 : BitVec 32) (v414 : BitVec 32) (k1_hw14 : k1_chk14 i v408 v414) (k1_t156 : Fin (k1_t156_loop i v408 v414).trips), ∀ (k1_h78 : k1_cond78 i v408 v414 = 1#1), ∀ a, (k1_off626 i v408 v414 k1_t156) a + S1x16.size a ≤ S256x128.size a := fun i v408 v414 k1_hw14 k1_t156 k1_h78 => k1_hw14.1.2.2.2.2.2.2.2.2.2.2.2.2.2.2.2.2.2.2.2.2.2.2.2.2.2.2.2.2.2.1 k1_t156 k1_h78
theorem k1_t219_ok : ∀ (i : grid1.Coords) (v408 : BitVec 32) (v414 : BitVec 32) (k1_hw14 : k1_chk14 i v408 v414), ∀ (k1_h110 : k1_cond110 i v408 v414 = 1#1), (k1_t219_loop i v408 v414).OK := fun i v408 v414 k1_hw14 k1_h110 => k1_hw14.1.2.2.2.2.2.2.2.2.2.2.2.2.2.2.2.2.2.2.2.2.2.2.2.2.2.2.2.2.2.2.1 k1_h110
theorem k1_off875_inb : ∀ (i : grid1.Coords) (v408 : BitVec 32) (v414 : BitVec 32) (k1_hw14 : k1_chk14 i v408 v414) (k1_t219 : Fin (k1_t219_loop i v408 v414).trips), ∀ (k1_h110 : k1_cond110 i v408 v414 = 1#1), ∀ a, (k1_off875 i v408 v414 k1_t219) a + S1x16.size a ≤ S256x128.size a := fun i v408 v414 k1_hw14 k1_t219 k1_h110 => k1_hw14.1.2.2.2.2.2.2.2.2.2.2.2.2.2.2.2.2.2.2.2.2.2.2.2.2.2.2.2.2.2.2.2 k1_t219 k1_h110
theorem k1_off876_inb : ∀ (i : grid1.Coords) (v408 : BitVec 32) (v414 : BitVec 32) (k1_hw14 : k1_chk14 i v408 v414) (k1_t219 : Fin (k1_t219_loop i v408 v414).trips), ∀ (k1_h110 : k1_cond110 i v408 v414 = 1#1), ∀ a, (k1_off876 i v408 v414 k1_t219) a + S1x16.size a ≤ S256x128.size a := fun i v408 v414 k1_hw14 k1_t219 k1_h110 => k1_hw14.2.1 k1_t219 k1_h110
theorem k1_off877_inb : ∀ (i : grid1.Coords) (v408 : BitVec 32) (v414 : BitVec 32) (k1_hw14 : k1_chk14 i v408 v414) (k1_t219 : Fin (k1_t219_loop i v408 v414).trips), ∀ (k1_h110 : k1_cond110 i v408 v414 = 1#1), ∀ a, (k1_off877 i v408 v414 k1_t219) a + S1x16.size a ≤ S256x128.size a := fun i v408 v414 k1_hw14 k1_t219 k1_h110 => k1_hw14.2.2.1 k1_t219 k1_h110
theorem k1_off878_inb : ∀ (i : grid1.Coords) (v408 : BitVec 32) (v414 : BitVec 32) (k1_hw14 : k1_chk14 i v408 v414) (k1_t219 : Fin (k1_t219_loop i v408 v414).trips), ∀ (k1_h110 : k1_cond110 i v408 v414 = 1#1), ∀ a, (k1_off878 i v408 v414 k1_t219) a + S1x16.size a ≤ S256x128.size a := fun i v408 v414 k1_hw14 k1_t219 k1_h110 => k1_hw14.2.2.2.1 k1_t219 k1_h110
theorem k1_t220_ok : ∀ (i : grid1.Coords) (v408 : BitVec 32) (v414 : BitVec 32) (k1_hw14 : k1_chk14 i v408 v414), ∀ (k1_h110 : k1_cond110 i v408 v414 = 1#1), (k1_t220_loop i v408 v414).OK := fun i v408 v414 k1_hw14 k1_h110 => k1_hw14.2.2.2.2.1 k1_h110
theorem k1_off879_inb : ∀ (i : grid1.Coords) (v408 : BitVec 32) (v414 : BitVec 32) (k1_hw14 : k1_chk14 i v408 v414) (k1_t220 : Fin (k1_t220_loop i v408 v414).trips), ∀ (k1_h110 : k1_cond110 i v408 v414 = 1#1), ∀ a, (k1_off879 i v408 v414 k1_t220) a + S1x16.size a ≤ S256x128.size a := fun i v408 v414 k1_hw14 k1_t220 k1_h110 => k1_hw14.2.2.2.2.2.1 k1_t220 k1_h110
theorem k1_off880_inb : ∀ (i : grid1.Coords) (v408 : BitVec 32) (v414 : BitVec 32) (k1_hw14 : k1_chk14 i v408 v414) (k1_t220 : Fin (k1_t220_loop i v408 v414).trips), ∀ (k1_h110 : k1_cond110 i v408 v414 = 1#1), ∀ a, (k1_off880 i v408 v414 k1_t220) a + S1x16.size a ≤ S256x128.size a := fun i v408 v414 k1_hw14 k1_t220 k1_h110 => k1_hw14.2.2.2.2.2.2.1 k1_t220 k1_h110
theorem k1_off881_inb : ∀ (i : grid1.Coords) (v408 : BitVec 32) (v414 : BitVec 32) (k1_hw14 : k1_chk14 i v408 v414) (k1_t220 : Fin (k1_t220_loop i v408 v414).trips), ∀ (k1_h110 : k1_cond110 i v408 v414 = 1#1), ∀ a, (k1_off881 i v408 v414 k1_t220) a + S1x16.size a ≤ S256x128.size a := fun i v408 v414 k1_hw14 k1_t220 k1_h110 => k1_hw14.2.2.2.2.2.2.2.1 k1_t220 k1_h110
theorem k1_off882_inb : ∀ (i : grid1.Coords) (v408 : BitVec 32) (v414 : BitVec 32) (k1_hw14 : k1_chk14 i v408 v414) (k1_t220 : Fin (k1_t220_loop i v408 v414).trips), ∀ (k1_h110 : k1_cond110 i v408 v414 = 1#1), ∀ a, (k1_off882 i v408 v414 k1_t220) a + S1x16.size a ≤ S256x128.size a := fun i v408 v414 k1_hw14 k1_t220 k1_h110 => k1_hw14.2.2.2.2.2.2.2.2 k1_t220 k1_h110

@[reducible] def k1_t221_loop (i : grid1.Coords) (v420 : BitVec 32) (v425 : BitVec 32) : Scf.Loop 32 :=
  let c256_i32_1064 : BitVec 32 := 256#32
  let c0_i32_1063 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let c256_i32_1067 : BitVec 32 := 256#32
  let c0_i32_1066 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c768_i32_1065 : BitVec 32 := 768#32
  let v1634 : BitVec 32 := Scalar.subi v428 c768_i32_1065
  let v1635 : BitVec 32 := Scalar.maxsi c0_i32_1066 v1634
  let v1636 : BitVec 32 := Scalar.minsi c256_i32_1067 v1635
  let v1805 : BitVec 32 := Scalar.subi v1636 v1633
  let c1_i32_1196 : BitVec 32 := 1#32
  let v1807 : BitVec 32 := Scalar.divsi v1805 c1_i32_1196
  let v1808 : BitVec 32 := Scalar.muli v1807 c1_i32_1196
  let v1809 : BitVec 32 := Scalar.addi v1633 v1808
  let c1_i32_1197 : BitVec 32 := 1#32
  ⟨v1633, v1809, c1_i32_1197⟩
def k1_cond111 (i : grid1.Coords) (v420 : BitVec 32) (v425 : BitVec 32) : BitVec 1 :=
  let c256_i32_1067 : BitVec 32 := 256#32
  let c0_i32_1066 : BitVec 32 := 0#32
  let c1024_i32_184 : BitVec 32 := 1024#32
  let c0_i32_183 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v426 : BitVec 32 := Scalar.subi v425 v3
  let v427 : BitVec 32 := Scalar.maxsi c0_i32_183 v426
  let v428 : BitVec 32 := Scalar.minsi c1024_i32_184 v427
  let c768_i32_1065 : BitVec 32 := 768#32
  let v1634 : BitVec 32 := Scalar.subi v428 c768_i32_1065
  let v1635 : BitVec 32 := Scalar.maxsi c0_i32_1066 v1634
  let v1636 : BitVec 32 := Scalar.minsi c256_i32_1067 v1635
  let c256_i32_1064 : BitVec 32 := 256#32
  let c0_i32_1063 : BitVec 32 := 0#32
  let c1024_i32_182 : BitVec 32 := 1024#32
  let c0_i32_181 : BitVec 32 := 0#32
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let v1637 : BitVec 1 := Scalar.cmpi .sgt v1636 v1633
  let v1638 : BitVec 32 := Scalar.extui v1637
  let c0_i32_1068 : BitVec 32 := 0#32
  let v1639 : BitVec 1 := Scalar.cmpi .ne v1638 c0_i32_1068
  v1639

def k1_off883 (i : grid1.Coords) (v420 : BitVec 32) (v425 : BitVec 32) (k1_t221 : Fin (k1_t221_loop i v420 v425).trips) : Fin 2 → Nat :=
  let c256_i32_1064 : BitVec 32 := 256#32
  let c0_i32_1063 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let c1_i32_1197 : BitVec 32 := 1#32
  let arg13 : BitVec 32 := Scf.iv v1633 c1_i32_1197 k1_t221
  let v1828 : Index := Scalar.indexCast arg13
  let c0_1207 : Index := 0#32
  ![v1828.toNat, 0]
def k1_off884 (i : grid1.Coords) (v420 : BitVec 32) (v425 : BitVec 32) (k1_t221 : Fin (k1_t221_loop i v420 v425).trips) : Fin 2 → Nat :=
  let c256_i32_1064 : BitVec 32 := 256#32
  let c0_i32_1063 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let c1_i32_1197 : BitVec 32 := 1#32
  let arg13 : BitVec 32 := Scf.iv v1633 c1_i32_1197 k1_t221
  let v1832 : Index := Scalar.indexCast arg13
  let c16_1208 : Index := 16#32
  ![v1832.toNat, 16]
def k1_off885 (i : grid1.Coords) (v420 : BitVec 32) (v425 : BitVec 32) (k1_t221 : Fin (k1_t221_loop i v420 v425).trips) : Fin 2 → Nat :=
  let c256_i32_1064 : BitVec 32 := 256#32
  let c0_i32_1063 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let c1_i32_1197 : BitVec 32 := 1#32
  let arg13 : BitVec 32 := Scf.iv v1633 c1_i32_1197 k1_t221
  let v1836 : Index := Scalar.indexCast arg13
  let c32_1209 : Index := 32#32
  ![v1836.toNat, 32]
def k1_off886 (i : grid1.Coords) (v420 : BitVec 32) (v425 : BitVec 32) (k1_t221 : Fin (k1_t221_loop i v420 v425).trips) : Fin 2 → Nat :=
  let c256_i32_1064 : BitVec 32 := 256#32
  let c0_i32_1063 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let c1_i32_1197 : BitVec 32 := 1#32
  let arg13 : BitVec 32 := Scf.iv v1633 c1_i32_1197 k1_t221
  let v1840 : Index := Scalar.indexCast arg13
  let c48_1210 : Index := 48#32
  ![v1840.toNat, 48]
@[reducible] def k1_t222_loop (i : grid1.Coords) (v420 : BitVec 32) (v425 : BitVec 32) : Scf.Loop 32 :=
  let c256_i32_1064 : BitVec 32 := 256#32
  let c0_i32_1063 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let c256_i32_1067 : BitVec 32 := 256#32
  let c0_i32_1066 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c768_i32_1065 : BitVec 32 := 768#32
  let v1634 : BitVec 32 := Scalar.subi v428 c768_i32_1065
  let v1635 : BitVec 32 := Scalar.maxsi c0_i32_1066 v1634
  let v1636 : BitVec 32 := Scalar.minsi c256_i32_1067 v1635
  let v1805 : BitVec 32 := Scalar.subi v1636 v1633
  let c1_i32_1196 : BitVec 32 := 1#32
  let v1807 : BitVec 32 := Scalar.divsi v1805 c1_i32_1196
  let v1808 : BitVec 32 := Scalar.muli v1807 c1_i32_1196
  let v1809 : BitVec 32 := Scalar.addi v1633 v1808
  let v1806 : BitVec 32 := Scalar.addi v1633 v1805
  let c1_i32_1198 : BitVec 32 := 1#32
  ⟨v1809, v1806, c1_i32_1198⟩
def k1_off887 (i : grid1.Coords) (v420 : BitVec 32) (v425 : BitVec 32) (k1_t222 : Fin (k1_t222_loop i v420 v425).trips) : Fin 2 → Nat :=
  let c256_i32_1064 : BitVec 32 := 256#32
  let c0_i32_1063 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let c256_i32_1067 : BitVec 32 := 256#32
  let c0_i32_1066 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c768_i32_1065 : BitVec 32 := 768#32
  let v1634 : BitVec 32 := Scalar.subi v428 c768_i32_1065
  let v1635 : BitVec 32 := Scalar.maxsi c0_i32_1066 v1634
  let v1636 : BitVec 32 := Scalar.minsi c256_i32_1067 v1635
  let v1805 : BitVec 32 := Scalar.subi v1636 v1633
  let c1_i32_1196 : BitVec 32 := 1#32
  let v1807 : BitVec 32 := Scalar.divsi v1805 c1_i32_1196
  let v1808 : BitVec 32 := Scalar.muli v1807 c1_i32_1196
  let v1809 : BitVec 32 := Scalar.addi v1633 v1808
  let c1_i32_1198 : BitVec 32 := 1#32
  let arg13 : BitVec 32 := Scf.iv v1809 c1_i32_1198 k1_t222
  let v1828 : Index := Scalar.indexCast arg13
  let c0_1207 : Index := 0#32
  ![v1828.toNat, 0]
def k1_off888 (i : grid1.Coords) (v420 : BitVec 32) (v425 : BitVec 32) (k1_t222 : Fin (k1_t222_loop i v420 v425).trips) : Fin 2 → Nat :=
  let c256_i32_1064 : BitVec 32 := 256#32
  let c0_i32_1063 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let c256_i32_1067 : BitVec 32 := 256#32
  let c0_i32_1066 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c768_i32_1065 : BitVec 32 := 768#32
  let v1634 : BitVec 32 := Scalar.subi v428 c768_i32_1065
  let v1635 : BitVec 32 := Scalar.maxsi c0_i32_1066 v1634
  let v1636 : BitVec 32 := Scalar.minsi c256_i32_1067 v1635
  let v1805 : BitVec 32 := Scalar.subi v1636 v1633
  let c1_i32_1196 : BitVec 32 := 1#32
  let v1807 : BitVec 32 := Scalar.divsi v1805 c1_i32_1196
  let v1808 : BitVec 32 := Scalar.muli v1807 c1_i32_1196
  let v1809 : BitVec 32 := Scalar.addi v1633 v1808
  let c1_i32_1198 : BitVec 32 := 1#32
  let arg13 : BitVec 32 := Scf.iv v1809 c1_i32_1198 k1_t222
  let v1832 : Index := Scalar.indexCast arg13
  let c16_1208 : Index := 16#32
  ![v1832.toNat, 16]
def k1_off889 (i : grid1.Coords) (v420 : BitVec 32) (v425 : BitVec 32) (k1_t222 : Fin (k1_t222_loop i v420 v425).trips) : Fin 2 → Nat :=
  let c256_i32_1064 : BitVec 32 := 256#32
  let c0_i32_1063 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let c256_i32_1067 : BitVec 32 := 256#32
  let c0_i32_1066 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c768_i32_1065 : BitVec 32 := 768#32
  let v1634 : BitVec 32 := Scalar.subi v428 c768_i32_1065
  let v1635 : BitVec 32 := Scalar.maxsi c0_i32_1066 v1634
  let v1636 : BitVec 32 := Scalar.minsi c256_i32_1067 v1635
  let v1805 : BitVec 32 := Scalar.subi v1636 v1633
  let c1_i32_1196 : BitVec 32 := 1#32
  let v1807 : BitVec 32 := Scalar.divsi v1805 c1_i32_1196
  let v1808 : BitVec 32 := Scalar.muli v1807 c1_i32_1196
  let v1809 : BitVec 32 := Scalar.addi v1633 v1808
  let c1_i32_1198 : BitVec 32 := 1#32
  let arg13 : BitVec 32 := Scf.iv v1809 c1_i32_1198 k1_t222
  let v1836 : Index := Scalar.indexCast arg13
  let c32_1209 : Index := 32#32
  ![v1836.toNat, 32]
def k1_off890 (i : grid1.Coords) (v420 : BitVec 32) (v425 : BitVec 32) (k1_t222 : Fin (k1_t222_loop i v420 v425).trips) : Fin 2 → Nat :=
  let c256_i32_1064 : BitVec 32 := 256#32
  let c0_i32_1063 : BitVec 32 := 0#32
  let c1024_i32_182 : BitVec 32 := 1024#32
  let c0_i32_181 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v421 : BitVec 32 := Scalar.subi v420 v3
  let v422 : BitVec 32 := Scalar.maxsi c0_i32_181 v421
  let v423 : BitVec 32 := Scalar.minsi c1024_i32_182 v422
  let c768_i32_1062 : BitVec 32 := 768#32
  let v1631 : BitVec 32 := Scalar.subi v423 c768_i32_1062
  let v1632 : BitVec 32 := Scalar.maxsi c0_i32_1063 v1631
  let v1633 : BitVec 32 := Scalar.minsi c256_i32_1064 v1632
  let c256_i32_1067 : BitVec 32 := 256#32
  let c0_i32_1066 : BitVec 32 := 0#32
  let c1024_i32_184 : BitVec 32 := 1024#32
  let c0_i32_183 : BitVec 32 := 0#32
  let v426 : BitVec 32 := Scalar.subi v425 v3
  let v427 : BitVec 32 := Scalar.maxsi c0_i32_183 v426
  let v428 : BitVec 32 := Scalar.minsi c1024_i32_184 v427
  let c768_i32_1065 : BitVec 32 := 768#32
  let v1634 : BitVec 32 := Scalar.subi v428 c768_i32_1065
  let v1635 : BitVec 32 := Scalar.maxsi c0_i32_1066 v1634
  let v1636 : BitVec 32 := Scalar.minsi c256_i32_1067 v1635
  let v1805 : BitVec 32 := Scalar.subi v1636 v1633
  let c1_i32_1196 : BitVec 32 := 1#32
  let v1807 : BitVec 32 := Scalar.divsi v1805 c1_i32_1196
  let v1808 : BitVec 32 := Scalar.muli v1807 c1_i32_1196
  let v1809 : BitVec 32 := Scalar.addi v1633 v1808
  let c1_i32_1198 : BitVec 32 := 1#32
  let arg13 : BitVec 32 := Scf.iv v1809 c1_i32_1198 k1_t222
  let v1840 : Index := Scalar.indexCast arg13
  let c48_1210 : Index := 48#32
  ![v1840.toNat, 48]

def k1_chk15_0 (i : grid1.Coords) (v420 : BitVec 32) (v425 : BitVec 32) : Prop :=
  (∀ (k1_h15 : k1_cond15 i v420 v425 = 1#1), (k1_t29_loop i v420 v425).OK) ∧
  (∀ k1_t29 : Fin (k1_t29_loop i v420 v425).trips, ∀ (k1_h15 : k1_cond15 i v420 v425 = 1#1), ∀ a, (k1_off114 i v420 v425 k1_t29) a + S1x16.size a ≤ S256x128.size a) ∧
  (∀ k1_t29 : Fin (k1_t29_loop i v420 v425).trips, ∀ (k1_h15 : k1_cond15 i v420 v425 = 1#1), ∀ a, (k1_off115 i v420 v425 k1_t29) a + S1x16.size a ≤ S256x128.size a) ∧
  (∀ k1_t29 : Fin (k1_t29_loop i v420 v425).trips, ∀ (k1_h15 : k1_cond15 i v420 v425 = 1#1), ∀ a, (k1_off116 i v420 v425 k1_t29) a + S1x16.size a ≤ S256x128.size a) ∧
  (∀ k1_t29 : Fin (k1_t29_loop i v420 v425).trips, ∀ (k1_h15 : k1_cond15 i v420 v425 = 1#1), ∀ a, (k1_off117 i v420 v425 k1_t29) a + S1x16.size a ≤ S256x128.size a) ∧
  (∀ (k1_h15 : k1_cond15 i v420 v425 = 1#1), (k1_t30_loop i v420 v425).OK) ∧
  (∀ k1_t30 : Fin (k1_t30_loop i v420 v425).trips, ∀ (k1_h15 : k1_cond15 i v420 v425 = 1#1), ∀ a, (k1_off118 i v420 v425 k1_t30) a + S1x16.size a ≤ S256x128.size a) ∧
  (∀ k1_t30 : Fin (k1_t30_loop i v420 v425).trips, ∀ (k1_h15 : k1_cond15 i v420 v425 = 1#1), ∀ a, (k1_off119 i v420 v425 k1_t30) a + S1x16.size a ≤ S256x128.size a) ∧
  (∀ k1_t30 : Fin (k1_t30_loop i v420 v425).trips, ∀ (k1_h15 : k1_cond15 i v420 v425 = 1#1), ∀ a, (k1_off120 i v420 v425 k1_t30) a + S1x16.size a ≤ S256x128.size a) ∧
  (∀ k1_t30 : Fin (k1_t30_loop i v420 v425).trips, ∀ (k1_h15 : k1_cond15 i v420 v425 = 1#1), ∀ a, (k1_off121 i v420 v425 k1_t30) a + S1x16.size a ≤ S256x128.size a) ∧
  (∀ (k1_h47 : k1_cond47 i v420 v425 = 1#1), (k1_t93_loop i v420 v425).OK) ∧
  (∀ k1_t93 : Fin (k1_t93_loop i v420 v425).trips, ∀ (k1_h47 : k1_cond47 i v420 v425 = 1#1), ∀ a, (k1_off371 i v420 v425 k1_t93) a + S1x16.size a ≤ S256x128.size a) ∧
  (∀ k1_t93 : Fin (k1_t93_loop i v420 v425).trips, ∀ (k1_h47 : k1_cond47 i v420 v425 = 1#1), ∀ a, (k1_off372 i v420 v425 k1_t93) a + S1x16.size a ≤ S256x128.size a) ∧
  (∀ k1_t93 : Fin (k1_t93_loop i v420 v425).trips, ∀ (k1_h47 : k1_cond47 i v420 v425 = 1#1), ∀ a, (k1_off373 i v420 v425 k1_t93) a + S1x16.size a ≤ S256x128.size a) ∧
  (∀ k1_t93 : Fin (k1_t93_loop i v420 v425).trips, ∀ (k1_h47 : k1_cond47 i v420 v425 = 1#1), ∀ a, (k1_off374 i v420 v425 k1_t93) a + S1x16.size a ≤ S256x128.size a) ∧
  (∀ (k1_h47 : k1_cond47 i v420 v425 = 1#1), (k1_t94_loop i v420 v425).OK) ∧
  (∀ k1_t94 : Fin (k1_t94_loop i v420 v425).trips, ∀ (k1_h47 : k1_cond47 i v420 v425 = 1#1), ∀ a, (k1_off375 i v420 v425 k1_t94) a + S1x16.size a ≤ S256x128.size a) ∧
  (∀ k1_t94 : Fin (k1_t94_loop i v420 v425).trips, ∀ (k1_h47 : k1_cond47 i v420 v425 = 1#1), ∀ a, (k1_off376 i v420 v425 k1_t94) a + S1x16.size a ≤ S256x128.size a) ∧
  (∀ k1_t94 : Fin (k1_t94_loop i v420 v425).trips, ∀ (k1_h47 : k1_cond47 i v420 v425 = 1#1), ∀ a, (k1_off377 i v420 v425 k1_t94) a + S1x16.size a ≤ S256x128.size a) ∧
  (∀ k1_t94 : Fin (k1_t94_loop i v420 v425).trips, ∀ (k1_h47 : k1_cond47 i v420 v425 = 1#1), ∀ a, (k1_off378 i v420 v425 k1_t94) a + S1x16.size a ≤ S256x128.size a) ∧
  (∀ (k1_h79 : k1_cond79 i v420 v425 = 1#1), (k1_t157_loop i v420 v425).OK) ∧
  (∀ k1_t157 : Fin (k1_t157_loop i v420 v425).trips, ∀ (k1_h79 : k1_cond79 i v420 v425 = 1#1), ∀ a, (k1_off627 i v420 v425 k1_t157) a + S1x16.size a ≤ S256x128.size a) ∧
  (∀ k1_t157 : Fin (k1_t157_loop i v420 v425).trips, ∀ (k1_h79 : k1_cond79 i v420 v425 = 1#1), ∀ a, (k1_off628 i v420 v425 k1_t157) a + S1x16.size a ≤ S256x128.size a) ∧
  (∀ k1_t157 : Fin (k1_t157_loop i v420 v425).trips, ∀ (k1_h79 : k1_cond79 i v420 v425 = 1#1), ∀ a, (k1_off629 i v420 v425 k1_t157) a + S1x16.size a ≤ S256x128.size a) ∧
  (∀ k1_t157 : Fin (k1_t157_loop i v420 v425).trips, ∀ (k1_h79 : k1_cond79 i v420 v425 = 1#1), ∀ a, (k1_off630 i v420 v425 k1_t157) a + S1x16.size a ≤ S256x128.size a) ∧
  (∀ (k1_h79 : k1_cond79 i v420 v425 = 1#1), (k1_t158_loop i v420 v425).OK) ∧
  (∀ k1_t158 : Fin (k1_t158_loop i v420 v425).trips, ∀ (k1_h79 : k1_cond79 i v420 v425 = 1#1), ∀ a, (k1_off631 i v420 v425 k1_t158) a + S1x16.size a ≤ S256x128.size a) ∧
  (∀ k1_t158 : Fin (k1_t158_loop i v420 v425).trips, ∀ (k1_h79 : k1_cond79 i v420 v425 = 1#1), ∀ a, (k1_off632 i v420 v425 k1_t158) a + S1x16.size a ≤ S256x128.size a) ∧
  (∀ k1_t158 : Fin (k1_t158_loop i v420 v425).trips, ∀ (k1_h79 : k1_cond79 i v420 v425 = 1#1), ∀ a, (k1_off633 i v420 v425 k1_t158) a + S1x16.size a ≤ S256x128.size a) ∧
  (∀ k1_t158 : Fin (k1_t158_loop i v420 v425).trips, ∀ (k1_h79 : k1_cond79 i v420 v425 = 1#1), ∀ a, (k1_off634 i v420 v425 k1_t158) a + S1x16.size a ≤ S256x128.size a) ∧
  (∀ (k1_h111 : k1_cond111 i v420 v425 = 1#1), (k1_t221_loop i v420 v425).OK) ∧
  (∀ k1_t221 : Fin (k1_t221_loop i v420 v425).trips, ∀ (k1_h111 : k1_cond111 i v420 v425 = 1#1), ∀ a, (k1_off883 i v420 v425 k1_t221) a + S1x16.size a ≤ S256x128.size a)
def k1_chk15_1 (i : grid1.Coords) (v420 : BitVec 32) (v425 : BitVec 32) : Prop :=
  (∀ k1_t221 : Fin (k1_t221_loop i v420 v425).trips, ∀ (k1_h111 : k1_cond111 i v420 v425 = 1#1), ∀ a, (k1_off884 i v420 v425 k1_t221) a + S1x16.size a ≤ S256x128.size a) ∧
  (∀ k1_t221 : Fin (k1_t221_loop i v420 v425).trips, ∀ (k1_h111 : k1_cond111 i v420 v425 = 1#1), ∀ a, (k1_off885 i v420 v425 k1_t221) a + S1x16.size a ≤ S256x128.size a) ∧
  (∀ k1_t221 : Fin (k1_t221_loop i v420 v425).trips, ∀ (k1_h111 : k1_cond111 i v420 v425 = 1#1), ∀ a, (k1_off886 i v420 v425 k1_t221) a + S1x16.size a ≤ S256x128.size a) ∧
  (∀ (k1_h111 : k1_cond111 i v420 v425 = 1#1), (k1_t222_loop i v420 v425).OK) ∧
  (∀ k1_t222 : Fin (k1_t222_loop i v420 v425).trips, ∀ (k1_h111 : k1_cond111 i v420 v425 = 1#1), ∀ a, (k1_off887 i v420 v425 k1_t222) a + S1x16.size a ≤ S256x128.size a) ∧
  (∀ k1_t222 : Fin (k1_t222_loop i v420 v425).trips, ∀ (k1_h111 : k1_cond111 i v420 v425 = 1#1), ∀ a, (k1_off888 i v420 v425 k1_t222) a + S1x16.size a ≤ S256x128.size a) ∧
  (∀ k1_t222 : Fin (k1_t222_loop i v420 v425).trips, ∀ (k1_h111 : k1_cond111 i v420 v425 = 1#1), ∀ a, (k1_off889 i v420 v425 k1_t222) a + S1x16.size a ≤ S256x128.size a) ∧
  (∀ k1_t222 : Fin (k1_t222_loop i v420 v425).trips, ∀ (k1_h111 : k1_cond111 i v420 v425 = 1#1), ∀ a, (k1_off890 i v420 v425 k1_t222) a + S1x16.size a ≤ S256x128.size a)
def k1_chk15 (i : grid1.Coords) (v420 : BitVec 32) (v425 : BitVec 32) : Prop :=
  k1_chk15_0 i v420 v425 ∧
  k1_chk15_1 i v420 v425
theorem k1_t29_ok : ∀ (i : grid1.Coords) (v420 : BitVec 32) (v425 : BitVec 32) (k1_hw15 : k1_chk15 i v420 v425), ∀ (k1_h15 : k1_cond15 i v420 v425 = 1#1), (k1_t29_loop i v420 v425).OK := fun i v420 v425 k1_hw15 k1_h15 => k1_hw15.1.1 k1_h15
theorem k1_off114_inb : ∀ (i : grid1.Coords) (v420 : BitVec 32) (v425 : BitVec 32) (k1_hw15 : k1_chk15 i v420 v425) (k1_t29 : Fin (k1_t29_loop i v420 v425).trips), ∀ (k1_h15 : k1_cond15 i v420 v425 = 1#1), ∀ a, (k1_off114 i v420 v425 k1_t29) a + S1x16.size a ≤ S256x128.size a := fun i v420 v425 k1_hw15 k1_t29 k1_h15 => k1_hw15.1.2.1 k1_t29 k1_h15
theorem k1_off115_inb : ∀ (i : grid1.Coords) (v420 : BitVec 32) (v425 : BitVec 32) (k1_hw15 : k1_chk15 i v420 v425) (k1_t29 : Fin (k1_t29_loop i v420 v425).trips), ∀ (k1_h15 : k1_cond15 i v420 v425 = 1#1), ∀ a, (k1_off115 i v420 v425 k1_t29) a + S1x16.size a ≤ S256x128.size a := fun i v420 v425 k1_hw15 k1_t29 k1_h15 => k1_hw15.1.2.2.1 k1_t29 k1_h15
theorem k1_off116_inb : ∀ (i : grid1.Coords) (v420 : BitVec 32) (v425 : BitVec 32) (k1_hw15 : k1_chk15 i v420 v425) (k1_t29 : Fin (k1_t29_loop i v420 v425).trips), ∀ (k1_h15 : k1_cond15 i v420 v425 = 1#1), ∀ a, (k1_off116 i v420 v425 k1_t29) a + S1x16.size a ≤ S256x128.size a := fun i v420 v425 k1_hw15 k1_t29 k1_h15 => k1_hw15.1.2.2.2.1 k1_t29 k1_h15
theorem k1_off117_inb : ∀ (i : grid1.Coords) (v420 : BitVec 32) (v425 : BitVec 32) (k1_hw15 : k1_chk15 i v420 v425) (k1_t29 : Fin (k1_t29_loop i v420 v425).trips), ∀ (k1_h15 : k1_cond15 i v420 v425 = 1#1), ∀ a, (k1_off117 i v420 v425 k1_t29) a + S1x16.size a ≤ S256x128.size a := fun i v420 v425 k1_hw15 k1_t29 k1_h15 => k1_hw15.1.2.2.2.2.1 k1_t29 k1_h15
theorem k1_t30_ok : ∀ (i : grid1.Coords) (v420 : BitVec 32) (v425 : BitVec 32) (k1_hw15 : k1_chk15 i v420 v425), ∀ (k1_h15 : k1_cond15 i v420 v425 = 1#1), (k1_t30_loop i v420 v425).OK := fun i v420 v425 k1_hw15 k1_h15 => k1_hw15.1.2.2.2.2.2.1 k1_h15
theorem k1_off118_inb : ∀ (i : grid1.Coords) (v420 : BitVec 32) (v425 : BitVec 32) (k1_hw15 : k1_chk15 i v420 v425) (k1_t30 : Fin (k1_t30_loop i v420 v425).trips), ∀ (k1_h15 : k1_cond15 i v420 v425 = 1#1), ∀ a, (k1_off118 i v420 v425 k1_t30) a + S1x16.size a ≤ S256x128.size a := fun i v420 v425 k1_hw15 k1_t30 k1_h15 => k1_hw15.1.2.2.2.2.2.2.1 k1_t30 k1_h15
theorem k1_off119_inb : ∀ (i : grid1.Coords) (v420 : BitVec 32) (v425 : BitVec 32) (k1_hw15 : k1_chk15 i v420 v425) (k1_t30 : Fin (k1_t30_loop i v420 v425).trips), ∀ (k1_h15 : k1_cond15 i v420 v425 = 1#1), ∀ a, (k1_off119 i v420 v425 k1_t30) a + S1x16.size a ≤ S256x128.size a := fun i v420 v425 k1_hw15 k1_t30 k1_h15 => k1_hw15.1.2.2.2.2.2.2.2.1 k1_t30 k1_h15
theorem k1_off120_inb : ∀ (i : grid1.Coords) (v420 : BitVec 32) (v425 : BitVec 32) (k1_hw15 : k1_chk15 i v420 v425) (k1_t30 : Fin (k1_t30_loop i v420 v425).trips), ∀ (k1_h15 : k1_cond15 i v420 v425 = 1#1), ∀ a, (k1_off120 i v420 v425 k1_t30) a + S1x16.size a ≤ S256x128.size a := fun i v420 v425 k1_hw15 k1_t30 k1_h15 => k1_hw15.1.2.2.2.2.2.2.2.2.1 k1_t30 k1_h15
theorem k1_off121_inb : ∀ (i : grid1.Coords) (v420 : BitVec 32) (v425 : BitVec 32) (k1_hw15 : k1_chk15 i v420 v425) (k1_t30 : Fin (k1_t30_loop i v420 v425).trips), ∀ (k1_h15 : k1_cond15 i v420 v425 = 1#1), ∀ a, (k1_off121 i v420 v425 k1_t30) a + S1x16.size a ≤ S256x128.size a := fun i v420 v425 k1_hw15 k1_t30 k1_h15 => k1_hw15.1.2.2.2.2.2.2.2.2.2.1 k1_t30 k1_h15
theorem k1_t93_ok : ∀ (i : grid1.Coords) (v420 : BitVec 32) (v425 : BitVec 32) (k1_hw15 : k1_chk15 i v420 v425), ∀ (k1_h47 : k1_cond47 i v420 v425 = 1#1), (k1_t93_loop i v420 v425).OK := fun i v420 v425 k1_hw15 k1_h47 => k1_hw15.1.2.2.2.2.2.2.2.2.2.2.1 k1_h47
theorem k1_off371_inb : ∀ (i : grid1.Coords) (v420 : BitVec 32) (v425 : BitVec 32) (k1_hw15 : k1_chk15 i v420 v425) (k1_t93 : Fin (k1_t93_loop i v420 v425).trips), ∀ (k1_h47 : k1_cond47 i v420 v425 = 1#1), ∀ a, (k1_off371 i v420 v425 k1_t93) a + S1x16.size a ≤ S256x128.size a := fun i v420 v425 k1_hw15 k1_t93 k1_h47 => k1_hw15.1.2.2.2.2.2.2.2.2.2.2.2.1 k1_t93 k1_h47
theorem k1_off372_inb : ∀ (i : grid1.Coords) (v420 : BitVec 32) (v425 : BitVec 32) (k1_hw15 : k1_chk15 i v420 v425) (k1_t93 : Fin (k1_t93_loop i v420 v425).trips), ∀ (k1_h47 : k1_cond47 i v420 v425 = 1#1), ∀ a, (k1_off372 i v420 v425 k1_t93) a + S1x16.size a ≤ S256x128.size a := fun i v420 v425 k1_hw15 k1_t93 k1_h47 => k1_hw15.1.2.2.2.2.2.2.2.2.2.2.2.2.1 k1_t93 k1_h47
theorem k1_off373_inb : ∀ (i : grid1.Coords) (v420 : BitVec 32) (v425 : BitVec 32) (k1_hw15 : k1_chk15 i v420 v425) (k1_t93 : Fin (k1_t93_loop i v420 v425).trips), ∀ (k1_h47 : k1_cond47 i v420 v425 = 1#1), ∀ a, (k1_off373 i v420 v425 k1_t93) a + S1x16.size a ≤ S256x128.size a := fun i v420 v425 k1_hw15 k1_t93 k1_h47 => k1_hw15.1.2.2.2.2.2.2.2.2.2.2.2.2.2.1 k1_t93 k1_h47
theorem k1_off374_inb : ∀ (i : grid1.Coords) (v420 : BitVec 32) (v425 : BitVec 32) (k1_hw15 : k1_chk15 i v420 v425) (k1_t93 : Fin (k1_t93_loop i v420 v425).trips), ∀ (k1_h47 : k1_cond47 i v420 v425 = 1#1), ∀ a, (k1_off374 i v420 v425 k1_t93) a + S1x16.size a ≤ S256x128.size a := fun i v420 v425 k1_hw15 k1_t93 k1_h47 => k1_hw15.1.2.2.2.2.2.2.2.2.2.2.2.2.2.2.1 k1_t93 k1_h47
theorem k1_t94_ok : ∀ (i : grid1.Coords) (v420 : BitVec 32) (v425 : BitVec 32) (k1_hw15 : k1_chk15 i v420 v425), ∀ (k1_h47 : k1_cond47 i v420 v425 = 1#1), (k1_t94_loop i v420 v425).OK := fun i v420 v425 k1_hw15 k1_h47 => k1_hw15.1.2.2.2.2.2.2.2.2.2.2.2.2.2.2.2.1 k1_h47
theorem k1_off375_inb : ∀ (i : grid1.Coords) (v420 : BitVec 32) (v425 : BitVec 32) (k1_hw15 : k1_chk15 i v420 v425) (k1_t94 : Fin (k1_t94_loop i v420 v425).trips), ∀ (k1_h47 : k1_cond47 i v420 v425 = 1#1), ∀ a, (k1_off375 i v420 v425 k1_t94) a + S1x16.size a ≤ S256x128.size a := fun i v420 v425 k1_hw15 k1_t94 k1_h47 => k1_hw15.1.2.2.2.2.2.2.2.2.2.2.2.2.2.2.2.2.1 k1_t94 k1_h47
theorem k1_off376_inb : ∀ (i : grid1.Coords) (v420 : BitVec 32) (v425 : BitVec 32) (k1_hw15 : k1_chk15 i v420 v425) (k1_t94 : Fin (k1_t94_loop i v420 v425).trips), ∀ (k1_h47 : k1_cond47 i v420 v425 = 1#1), ∀ a, (k1_off376 i v420 v425 k1_t94) a + S1x16.size a ≤ S256x128.size a := fun i v420 v425 k1_hw15 k1_t94 k1_h47 => k1_hw15.1.2.2.2.2.2.2.2.2.2.2.2.2.2.2.2.2.2.1 k1_t94 k1_h47
theorem k1_off377_inb : ∀ (i : grid1.Coords) (v420 : BitVec 32) (v425 : BitVec 32) (k1_hw15 : k1_chk15 i v420 v425) (k1_t94 : Fin (k1_t94_loop i v420 v425).trips), ∀ (k1_h47 : k1_cond47 i v420 v425 = 1#1), ∀ a, (k1_off377 i v420 v425 k1_t94) a + S1x16.size a ≤ S256x128.size a := fun i v420 v425 k1_hw15 k1_t94 k1_h47 => k1_hw15.1.2.2.2.2.2.2.2.2.2.2.2.2.2.2.2.2.2.2.1 k1_t94 k1_h47
theorem k1_off378_inb : ∀ (i : grid1.Coords) (v420 : BitVec 32) (v425 : BitVec 32) (k1_hw15 : k1_chk15 i v420 v425) (k1_t94 : Fin (k1_t94_loop i v420 v425).trips), ∀ (k1_h47 : k1_cond47 i v420 v425 = 1#1), ∀ a, (k1_off378 i v420 v425 k1_t94) a + S1x16.size a ≤ S256x128.size a := fun i v420 v425 k1_hw15 k1_t94 k1_h47 => k1_hw15.1.2.2.2.2.2.2.2.2.2.2.2.2.2.2.2.2.2.2.2.1 k1_t94 k1_h47
theorem k1_t157_ok : ∀ (i : grid1.Coords) (v420 : BitVec 32) (v425 : BitVec 32) (k1_hw15 : k1_chk15 i v420 v425), ∀ (k1_h79 : k1_cond79 i v420 v425 = 1#1), (k1_t157_loop i v420 v425).OK := fun i v420 v425 k1_hw15 k1_h79 => k1_hw15.1.2.2.2.2.2.2.2.2.2.2.2.2.2.2.2.2.2.2.2.2.1 k1_h79
theorem k1_off627_inb : ∀ (i : grid1.Coords) (v420 : BitVec 32) (v425 : BitVec 32) (k1_hw15 : k1_chk15 i v420 v425) (k1_t157 : Fin (k1_t157_loop i v420 v425).trips), ∀ (k1_h79 : k1_cond79 i v420 v425 = 1#1), ∀ a, (k1_off627 i v420 v425 k1_t157) a + S1x16.size a ≤ S256x128.size a := fun i v420 v425 k1_hw15 k1_t157 k1_h79 => k1_hw15.1.2.2.2.2.2.2.2.2.2.2.2.2.2.2.2.2.2.2.2.2.2.1 k1_t157 k1_h79
theorem k1_off628_inb : ∀ (i : grid1.Coords) (v420 : BitVec 32) (v425 : BitVec 32) (k1_hw15 : k1_chk15 i v420 v425) (k1_t157 : Fin (k1_t157_loop i v420 v425).trips), ∀ (k1_h79 : k1_cond79 i v420 v425 = 1#1), ∀ a, (k1_off628 i v420 v425 k1_t157) a + S1x16.size a ≤ S256x128.size a := fun i v420 v425 k1_hw15 k1_t157 k1_h79 => k1_hw15.1.2.2.2.2.2.2.2.2.2.2.2.2.2.2.2.2.2.2.2.2.2.2.1 k1_t157 k1_h79
theorem k1_off629_inb : ∀ (i : grid1.Coords) (v420 : BitVec 32) (v425 : BitVec 32) (k1_hw15 : k1_chk15 i v420 v425) (k1_t157 : Fin (k1_t157_loop i v420 v425).trips), ∀ (k1_h79 : k1_cond79 i v420 v425 = 1#1), ∀ a, (k1_off629 i v420 v425 k1_t157) a + S1x16.size a ≤ S256x128.size a := fun i v420 v425 k1_hw15 k1_t157 k1_h79 => k1_hw15.1.2.2.2.2.2.2.2.2.2.2.2.2.2.2.2.2.2.2.2.2.2.2.2.1 k1_t157 k1_h79
theorem k1_off630_inb : ∀ (i : grid1.Coords) (v420 : BitVec 32) (v425 : BitVec 32) (k1_hw15 : k1_chk15 i v420 v425) (k1_t157 : Fin (k1_t157_loop i v420 v425).trips), ∀ (k1_h79 : k1_cond79 i v420 v425 = 1#1), ∀ a, (k1_off630 i v420 v425 k1_t157) a + S1x16.size a ≤ S256x128.size a := fun i v420 v425 k1_hw15 k1_t157 k1_h79 => k1_hw15.1.2.2.2.2.2.2.2.2.2.2.2.2.2.2.2.2.2.2.2.2.2.2.2.2.1 k1_t157 k1_h79
theorem k1_t158_ok : ∀ (i : grid1.Coords) (v420 : BitVec 32) (v425 : BitVec 32) (k1_hw15 : k1_chk15 i v420 v425), ∀ (k1_h79 : k1_cond79 i v420 v425 = 1#1), (k1_t158_loop i v420 v425).OK := fun i v420 v425 k1_hw15 k1_h79 => k1_hw15.1.2.2.2.2.2.2.2.2.2.2.2.2.2.2.2.2.2.2.2.2.2.2.2.2.2.1 k1_h79
theorem k1_off631_inb : ∀ (i : grid1.Coords) (v420 : BitVec 32) (v425 : BitVec 32) (k1_hw15 : k1_chk15 i v420 v425) (k1_t158 : Fin (k1_t158_loop i v420 v425).trips), ∀ (k1_h79 : k1_cond79 i v420 v425 = 1#1), ∀ a, (k1_off631 i v420 v425 k1_t158) a + S1x16.size a ≤ S256x128.size a := fun i v420 v425 k1_hw15 k1_t158 k1_h79 => k1_hw15.1.2.2.2.2.2.2.2.2.2.2.2.2.2.2.2.2.2.2.2.2.2.2.2.2.2.2.1 k1_t158 k1_h79
theorem k1_off632_inb : ∀ (i : grid1.Coords) (v420 : BitVec 32) (v425 : BitVec 32) (k1_hw15 : k1_chk15 i v420 v425) (k1_t158 : Fin (k1_t158_loop i v420 v425).trips), ∀ (k1_h79 : k1_cond79 i v420 v425 = 1#1), ∀ a, (k1_off632 i v420 v425 k1_t158) a + S1x16.size a ≤ S256x128.size a := fun i v420 v425 k1_hw15 k1_t158 k1_h79 => k1_hw15.1.2.2.2.2.2.2.2.2.2.2.2.2.2.2.2.2.2.2.2.2.2.2.2.2.2.2.2.1 k1_t158 k1_h79
theorem k1_off633_inb : ∀ (i : grid1.Coords) (v420 : BitVec 32) (v425 : BitVec 32) (k1_hw15 : k1_chk15 i v420 v425) (k1_t158 : Fin (k1_t158_loop i v420 v425).trips), ∀ (k1_h79 : k1_cond79 i v420 v425 = 1#1), ∀ a, (k1_off633 i v420 v425 k1_t158) a + S1x16.size a ≤ S256x128.size a := fun i v420 v425 k1_hw15 k1_t158 k1_h79 => k1_hw15.1.2.2.2.2.2.2.2.2.2.2.2.2.2.2.2.2.2.2.2.2.2.2.2.2.2.2.2.2.1 k1_t158 k1_h79
theorem k1_off634_inb : ∀ (i : grid1.Coords) (v420 : BitVec 32) (v425 : BitVec 32) (k1_hw15 : k1_chk15 i v420 v425) (k1_t158 : Fin (k1_t158_loop i v420 v425).trips), ∀ (k1_h79 : k1_cond79 i v420 v425 = 1#1), ∀ a, (k1_off634 i v420 v425 k1_t158) a + S1x16.size a ≤ S256x128.size a := fun i v420 v425 k1_hw15 k1_t158 k1_h79 => k1_hw15.1.2.2.2.2.2.2.2.2.2.2.2.2.2.2.2.2.2.2.2.2.2.2.2.2.2.2.2.2.2.1 k1_t158 k1_h79
theorem k1_t221_ok : ∀ (i : grid1.Coords) (v420 : BitVec 32) (v425 : BitVec 32) (k1_hw15 : k1_chk15 i v420 v425), ∀ (k1_h111 : k1_cond111 i v420 v425 = 1#1), (k1_t221_loop i v420 v425).OK := fun i v420 v425 k1_hw15 k1_h111 => k1_hw15.1.2.2.2.2.2.2.2.2.2.2.2.2.2.2.2.2.2.2.2.2.2.2.2.2.2.2.2.2.2.2.1 k1_h111
theorem k1_off883_inb : ∀ (i : grid1.Coords) (v420 : BitVec 32) (v425 : BitVec 32) (k1_hw15 : k1_chk15 i v420 v425) (k1_t221 : Fin (k1_t221_loop i v420 v425).trips), ∀ (k1_h111 : k1_cond111 i v420 v425 = 1#1), ∀ a, (k1_off883 i v420 v425 k1_t221) a + S1x16.size a ≤ S256x128.size a := fun i v420 v425 k1_hw15 k1_t221 k1_h111 => k1_hw15.1.2.2.2.2.2.2.2.2.2.2.2.2.2.2.2.2.2.2.2.2.2.2.2.2.2.2.2.2.2.2.2 k1_t221 k1_h111
theorem k1_off884_inb : ∀ (i : grid1.Coords) (v420 : BitVec 32) (v425 : BitVec 32) (k1_hw15 : k1_chk15 i v420 v425) (k1_t221 : Fin (k1_t221_loop i v420 v425).trips), ∀ (k1_h111 : k1_cond111 i v420 v425 = 1#1), ∀ a, (k1_off884 i v420 v425 k1_t221) a + S1x16.size a ≤ S256x128.size a := fun i v420 v425 k1_hw15 k1_t221 k1_h111 => k1_hw15.2.1 k1_t221 k1_h111
theorem k1_off885_inb : ∀ (i : grid1.Coords) (v420 : BitVec 32) (v425 : BitVec 32) (k1_hw15 : k1_chk15 i v420 v425) (k1_t221 : Fin (k1_t221_loop i v420 v425).trips), ∀ (k1_h111 : k1_cond111 i v420 v425 = 1#1), ∀ a, (k1_off885 i v420 v425 k1_t221) a + S1x16.size a ≤ S256x128.size a := fun i v420 v425 k1_hw15 k1_t221 k1_h111 => k1_hw15.2.2.1 k1_t221 k1_h111
theorem k1_off886_inb : ∀ (i : grid1.Coords) (v420 : BitVec 32) (v425 : BitVec 32) (k1_hw15 : k1_chk15 i v420 v425) (k1_t221 : Fin (k1_t221_loop i v420 v425).trips), ∀ (k1_h111 : k1_cond111 i v420 v425 = 1#1), ∀ a, (k1_off886 i v420 v425 k1_t221) a + S1x16.size a ≤ S256x128.size a := fun i v420 v425 k1_hw15 k1_t221 k1_h111 => k1_hw15.2.2.2.1 k1_t221 k1_h111
theorem k1_t222_ok : ∀ (i : grid1.Coords) (v420 : BitVec 32) (v425 : BitVec 32) (k1_hw15 : k1_chk15 i v420 v425), ∀ (k1_h111 : k1_cond111 i v420 v425 = 1#1), (k1_t222_loop i v420 v425).OK := fun i v420 v425 k1_hw15 k1_h111 => k1_hw15.2.2.2.2.1 k1_h111
theorem k1_off887_inb : ∀ (i : grid1.Coords) (v420 : BitVec 32) (v425 : BitVec 32) (k1_hw15 : k1_chk15 i v420 v425) (k1_t222 : Fin (k1_t222_loop i v420 v425).trips), ∀ (k1_h111 : k1_cond111 i v420 v425 = 1#1), ∀ a, (k1_off887 i v420 v425 k1_t222) a + S1x16.size a ≤ S256x128.size a := fun i v420 v425 k1_hw15 k1_t222 k1_h111 => k1_hw15.2.2.2.2.2.1 k1_t222 k1_h111
theorem k1_off888_inb : ∀ (i : grid1.Coords) (v420 : BitVec 32) (v425 : BitVec 32) (k1_hw15 : k1_chk15 i v420 v425) (k1_t222 : Fin (k1_t222_loop i v420 v425).trips), ∀ (k1_h111 : k1_cond111 i v420 v425 = 1#1), ∀ a, (k1_off888 i v420 v425 k1_t222) a + S1x16.size a ≤ S256x128.size a := fun i v420 v425 k1_hw15 k1_t222 k1_h111 => k1_hw15.2.2.2.2.2.2.1 k1_t222 k1_h111
theorem k1_off889_inb : ∀ (i : grid1.Coords) (v420 : BitVec 32) (v425 : BitVec 32) (k1_hw15 : k1_chk15 i v420 v425) (k1_t222 : Fin (k1_t222_loop i v420 v425).trips), ∀ (k1_h111 : k1_cond111 i v420 v425 = 1#1), ∀ a, (k1_off889 i v420 v425 k1_t222) a + S1x16.size a ≤ S256x128.size a := fun i v420 v425 k1_hw15 k1_t222 k1_h111 => k1_hw15.2.2.2.2.2.2.2.1 k1_t222 k1_h111
theorem k1_off890_inb : ∀ (i : grid1.Coords) (v420 : BitVec 32) (v425 : BitVec 32) (k1_hw15 : k1_chk15 i v420 v425) (k1_t222 : Fin (k1_t222_loop i v420 v425).trips), ∀ (k1_h111 : k1_cond111 i v420 v425 = 1#1), ∀ a, (k1_off890 i v420 v425 k1_t222) a + S1x16.size a ≤ S256x128.size a := fun i v420 v425 k1_hw15 k1_t222 k1_h111 => k1_hw15.2.2.2.2.2.2.2.2 k1_t222 k1_h111

@[reducible] def k1_t223_loop (i : grid1.Coords) (v430 : BitVec 32) (v436 : BitVec 32) : Scf.Loop 32 :=
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let c256_i32_1074 : BitVec 32 := 256#32
  let c0_i32_1073 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c768_i32_1072 : BitVec 32 := 768#32
  let v1643 : BitVec 32 := Scalar.subi v440 c768_i32_1072
  let v1644 : BitVec 32 := Scalar.maxsi c0_i32_1073 v1643
  let v1645 : BitVec 32 := Scalar.minsi c256_i32_1074 v1644
  let v1805 : BitVec 32 := Scalar.subi v1645 v1642
  let c1_i32_1196 : BitVec 32 := 1#32
  let v1807 : BitVec 32 := Scalar.divsi v1805 c1_i32_1196
  let v1808 : BitVec 32 := Scalar.muli v1807 c1_i32_1196
  let v1809 : BitVec 32 := Scalar.addi v1642 v1808
  let c1_i32_1197 : BitVec 32 := 1#32
  ⟨v1642, v1809, c1_i32_1197⟩
def k1_cond112 (i : grid1.Coords) (v430 : BitVec 32) (v436 : BitVec 32) : BitVec 1 :=
  let c256_i32_1074 : BitVec 32 := 256#32
  let c0_i32_1073 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v438 : BitVec 32 := Scalar.subi v437 v3
  let v439 : BitVec 32 := Scalar.maxsi c0_i32_189 v438
  let v440 : BitVec 32 := Scalar.minsi c1024_i32_190 v439
  let c768_i32_1072 : BitVec 32 := 768#32
  let v1643 : BitVec 32 := Scalar.subi v440 c768_i32_1072
  let v1644 : BitVec 32 := Scalar.maxsi c0_i32_1073 v1643
  let v1645 : BitVec 32 := Scalar.minsi c256_i32_1074 v1644
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let v1646 : BitVec 1 := Scalar.cmpi .sgt v1645 v1642
  let v1647 : BitVec 32 := Scalar.extui v1646
  let c0_i32_1075 : BitVec 32 := 0#32
  let v1648 : BitVec 1 := Scalar.cmpi .ne v1647 c0_i32_1075
  v1648

def k1_off891 (i : grid1.Coords) (v430 : BitVec 32) (v436 : BitVec 32) (k1_t223 : Fin (k1_t223_loop i v430 v436).trips) : Fin 2 → Nat :=
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let c1_i32_1197 : BitVec 32 := 1#32
  let arg13 : BitVec 32 := Scf.iv v1642 c1_i32_1197 k1_t223
  let v1828 : Index := Scalar.indexCast arg13
  let c64 : Index := 64#32
  ![v1828.toNat, 64]
def k1_off892 (i : grid1.Coords) (v430 : BitVec 32) (v436 : BitVec 32) (k1_t223 : Fin (k1_t223_loop i v430 v436).trips) : Fin 2 → Nat :=
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let c1_i32_1197 : BitVec 32 := 1#32
  let arg13 : BitVec 32 := Scf.iv v1642 c1_i32_1197 k1_t223
  let v1832 : Index := Scalar.indexCast arg13
  let c80 : Index := 80#32
  ![v1832.toNat, 80]
def k1_off893 (i : grid1.Coords) (v430 : BitVec 32) (v436 : BitVec 32) (k1_t223 : Fin (k1_t223_loop i v430 v436).trips) : Fin 2 → Nat :=
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let c1_i32_1197 : BitVec 32 := 1#32
  let arg13 : BitVec 32 := Scf.iv v1642 c1_i32_1197 k1_t223
  let v1836 : Index := Scalar.indexCast arg13
  let c96 : Index := 96#32
  ![v1836.toNat, 96]
def k1_off894 (i : grid1.Coords) (v430 : BitVec 32) (v436 : BitVec 32) (k1_t223 : Fin (k1_t223_loop i v430 v436).trips) : Fin 2 → Nat :=
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let c1_i32_1197 : BitVec 32 := 1#32
  let arg13 : BitVec 32 := Scf.iv v1642 c1_i32_1197 k1_t223
  let v1840 : Index := Scalar.indexCast arg13
  let c112 : Index := 112#32
  ![v1840.toNat, 112]
@[reducible] def k1_t224_loop (i : grid1.Coords) (v430 : BitVec 32) (v436 : BitVec 32) : Scf.Loop 32 :=
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let c256_i32_1074 : BitVec 32 := 256#32
  let c0_i32_1073 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c768_i32_1072 : BitVec 32 := 768#32
  let v1643 : BitVec 32 := Scalar.subi v440 c768_i32_1072
  let v1644 : BitVec 32 := Scalar.maxsi c0_i32_1073 v1643
  let v1645 : BitVec 32 := Scalar.minsi c256_i32_1074 v1644
  let v1805 : BitVec 32 := Scalar.subi v1645 v1642
  let c1_i32_1196 : BitVec 32 := 1#32
  let v1807 : BitVec 32 := Scalar.divsi v1805 c1_i32_1196
  let v1808 : BitVec 32 := Scalar.muli v1807 c1_i32_1196
  let v1809 : BitVec 32 := Scalar.addi v1642 v1808
  let v1806 : BitVec 32 := Scalar.addi v1642 v1805
  let c1_i32_1198 : BitVec 32 := 1#32
  ⟨v1809, v1806, c1_i32_1198⟩
def k1_off895 (i : grid1.Coords) (v430 : BitVec 32) (v436 : BitVec 32) (k1_t224 : Fin (k1_t224_loop i v430 v436).trips) : Fin 2 → Nat :=
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let c256_i32_1074 : BitVec 32 := 256#32
  let c0_i32_1073 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c768_i32_1072 : BitVec 32 := 768#32
  let v1643 : BitVec 32 := Scalar.subi v440 c768_i32_1072
  let v1644 : BitVec 32 := Scalar.maxsi c0_i32_1073 v1643
  let v1645 : BitVec 32 := Scalar.minsi c256_i32_1074 v1644
  let v1805 : BitVec 32 := Scalar.subi v1645 v1642
  let c1_i32_1196 : BitVec 32 := 1#32
  let v1807 : BitVec 32 := Scalar.divsi v1805 c1_i32_1196
  let v1808 : BitVec 32 := Scalar.muli v1807 c1_i32_1196
  let v1809 : BitVec 32 := Scalar.addi v1642 v1808
  let c1_i32_1198 : BitVec 32 := 1#32
  let arg13 : BitVec 32 := Scf.iv v1809 c1_i32_1198 k1_t224
  let v1828 : Index := Scalar.indexCast arg13
  let c64 : Index := 64#32
  ![v1828.toNat, 64]
def k1_off896 (i : grid1.Coords) (v430 : BitVec 32) (v436 : BitVec 32) (k1_t224 : Fin (k1_t224_loop i v430 v436).trips) : Fin 2 → Nat :=
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let c256_i32_1074 : BitVec 32 := 256#32
  let c0_i32_1073 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c768_i32_1072 : BitVec 32 := 768#32
  let v1643 : BitVec 32 := Scalar.subi v440 c768_i32_1072
  let v1644 : BitVec 32 := Scalar.maxsi c0_i32_1073 v1643
  let v1645 : BitVec 32 := Scalar.minsi c256_i32_1074 v1644
  let v1805 : BitVec 32 := Scalar.subi v1645 v1642
  let c1_i32_1196 : BitVec 32 := 1#32
  let v1807 : BitVec 32 := Scalar.divsi v1805 c1_i32_1196
  let v1808 : BitVec 32 := Scalar.muli v1807 c1_i32_1196
  let v1809 : BitVec 32 := Scalar.addi v1642 v1808
  let c1_i32_1198 : BitVec 32 := 1#32
  let arg13 : BitVec 32 := Scf.iv v1809 c1_i32_1198 k1_t224
  let v1832 : Index := Scalar.indexCast arg13
  let c80 : Index := 80#32
  ![v1832.toNat, 80]
def k1_off897 (i : grid1.Coords) (v430 : BitVec 32) (v436 : BitVec 32) (k1_t224 : Fin (k1_t224_loop i v430 v436).trips) : Fin 2 → Nat :=
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let c256_i32_1074 : BitVec 32 := 256#32
  let c0_i32_1073 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c768_i32_1072 : BitVec 32 := 768#32
  let v1643 : BitVec 32 := Scalar.subi v440 c768_i32_1072
  let v1644 : BitVec 32 := Scalar.maxsi c0_i32_1073 v1643
  let v1645 : BitVec 32 := Scalar.minsi c256_i32_1074 v1644
  let v1805 : BitVec 32 := Scalar.subi v1645 v1642
  let c1_i32_1196 : BitVec 32 := 1#32
  let v1807 : BitVec 32 := Scalar.divsi v1805 c1_i32_1196
  let v1808 : BitVec 32 := Scalar.muli v1807 c1_i32_1196
  let v1809 : BitVec 32 := Scalar.addi v1642 v1808
  let c1_i32_1198 : BitVec 32 := 1#32
  let arg13 : BitVec 32 := Scf.iv v1809 c1_i32_1198 k1_t224
  let v1836 : Index := Scalar.indexCast arg13
  let c96 : Index := 96#32
  ![v1836.toNat, 96]
def k1_off898 (i : grid1.Coords) (v430 : BitVec 32) (v436 : BitVec 32) (k1_t224 : Fin (k1_t224_loop i v430 v436).trips) : Fin 2 → Nat :=
  let c256_i32_1071 : BitVec 32 := 256#32
  let c0_i32_1070 : BitVec 32 := 0#32
  let c1024_i32_187 : BitVec 32 := 1024#32
  let c0_i32_186 : BitVec 32 := 0#32
  let c65536_i32_185 : BitVec 32 := 65536#32
  let v431 : BitVec 32 := Scalar.subi v430 c65536_i32_185
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v432 : BitVec 32 := Scalar.subi v431 v3
  let v433 : BitVec 32 := Scalar.maxsi c0_i32_186 v432
  let v434 : BitVec 32 := Scalar.minsi c1024_i32_187 v433
  let c768_i32_1069 : BitVec 32 := 768#32
  let v1640 : BitVec 32 := Scalar.subi v434 c768_i32_1069
  let v1641 : BitVec 32 := Scalar.maxsi c0_i32_1070 v1640
  let v1642 : BitVec 32 := Scalar.minsi c256_i32_1071 v1641
  let c256_i32_1074 : BitVec 32 := 256#32
  let c0_i32_1073 : BitVec 32 := 0#32
  let c1024_i32_190 : BitVec 32 := 1024#32
  let c0_i32_189 : BitVec 32 := 0#32
  let c65536_i32_188 : BitVec 32 := 65536#32
  let v437 : BitVec 32 := Scalar.subi v436 c65536_i32_188
  let v438 : BitVec 32 := Scalar.subi v437 v3
  let v439 : BitVec 32 := Scalar.maxsi c0_i32_189 v438
  let v440 : BitVec 32 := Scalar.minsi c1024_i32_190 v439
  let c768_i32_1072 : BitVec 32 := 768#32
  let v1643 : BitVec 32 := Scalar.subi v440 c768_i32_1072
  let v1644 : BitVec 32 := Scalar.maxsi c0_i32_1073 v1643
  let v1645 : BitVec 32 := Scalar.minsi c256_i32_1074 v1644
  let v1805 : BitVec 32 := Scalar.subi v1645 v1642
  let c1_i32_1196 : BitVec 32 := 1#32
  let v1807 : BitVec 32 := Scalar.divsi v1805 c1_i32_1196
  let v1808 : BitVec 32 := Scalar.muli v1807 c1_i32_1196
  let v1809 : BitVec 32 := Scalar.addi v1642 v1808
  let c1_i32_1198 : BitVec 32 := 1#32
  let arg13 : BitVec 32 := Scf.iv v1809 c1_i32_1198 k1_t224
  let v1840 : Index := Scalar.indexCast arg13
  let c112 : Index := 112#32
  ![v1840.toNat, 112]

def k1_chk16_0 (i : grid1.Coords) (v430 : BitVec 32) (v436 : BitVec 32) : Prop :=
  (∀ (k1_h16 : k1_cond16 i v430 v436 = 1#1), (k1_t31_loop i v430 v436).OK) ∧
  (∀ k1_t31 : Fin (k1_t31_loop i v430 v436).trips, ∀ (k1_h16 : k1_cond16 i v430 v436 = 1#1), ∀ a, (k1_off122 i v430 v436 k1_t31) a + S1x16.size a ≤ S256x128.size a) ∧
  (∀ k1_t31 : Fin (k1_t31_loop i v430 v436).trips, ∀ (k1_h16 : k1_cond16 i v430 v436 = 1#1), ∀ a, (k1_off123 i v430 v436 k1_t31) a + S1x16.size a ≤ S256x128.size a) ∧
  (∀ k1_t31 : Fin (k1_t31_loop i v430 v436).trips, ∀ (k1_h16 : k1_cond16 i v430 v436 = 1#1), ∀ a, (k1_off124 i v430 v436 k1_t31) a + S1x16.size a ≤ S256x128.size a) ∧
  (∀ k1_t31 : Fin (k1_t31_loop i v430 v436).trips, ∀ (k1_h16 : k1_cond16 i v430 v436 = 1#1), ∀ a, (k1_off125 i v430 v436 k1_t31) a + S1x16.size a ≤ S256x128.size a) ∧
  (∀ (k1_h16 : k1_cond16 i v430 v436 = 1#1), (k1_t32_loop i v430 v436).OK) ∧
  (∀ k1_t32 : Fin (k1_t32_loop i v430 v436).trips, ∀ (k1_h16 : k1_cond16 i v430 v436 = 1#1), ∀ a, (k1_off126 i v430 v436 k1_t32) a + S1x16.size a ≤ S256x128.size a) ∧
  (∀ k1_t32 : Fin (k1_t32_loop i v430 v436).trips, ∀ (k1_h16 : k1_cond16 i v430 v436 = 1#1), ∀ a, (k1_off127 i v430 v436 k1_t32) a + S1x16.size a ≤ S256x128.size a) ∧
  (∀ k1_t32 : Fin (k1_t32_loop i v430 v436).trips, ∀ (k1_h16 : k1_cond16 i v430 v436 = 1#1), ∀ a, (k1_off128 i v430 v436 k1_t32) a + S1x16.size a ≤ S256x128.size a) ∧
  (∀ k1_t32 : Fin (k1_t32_loop i v430 v436).trips, ∀ (k1_h16 : k1_cond16 i v430 v436 = 1#1), ∀ a, (k1_off129 i v430 v436 k1_t32) a + S1x16.size a ≤ S256x128.size a) ∧
  (∀ (k1_h48 : k1_cond48 i v430 v436 = 1#1), (k1_t95_loop i v430 v436).OK) ∧
  (∀ k1_t95 : Fin (k1_t95_loop i v430 v436).trips, ∀ (k1_h48 : k1_cond48 i v430 v436 = 1#1), ∀ a, (k1_off379 i v430 v436 k1_t95) a + S1x16.size a ≤ S256x128.size a) ∧
  (∀ k1_t95 : Fin (k1_t95_loop i v430 v436).trips, ∀ (k1_h48 : k1_cond48 i v430 v436 = 1#1), ∀ a, (k1_off380 i v430 v436 k1_t95) a + S1x16.size a ≤ S256x128.size a) ∧
  (∀ k1_t95 : Fin (k1_t95_loop i v430 v436).trips, ∀ (k1_h48 : k1_cond48 i v430 v436 = 1#1), ∀ a, (k1_off381 i v430 v436 k1_t95) a + S1x16.size a ≤ S256x128.size a) ∧
  (∀ k1_t95 : Fin (k1_t95_loop i v430 v436).trips, ∀ (k1_h48 : k1_cond48 i v430 v436 = 1#1), ∀ a, (k1_off382 i v430 v436 k1_t95) a + S1x16.size a ≤ S256x128.size a) ∧
  (∀ (k1_h48 : k1_cond48 i v430 v436 = 1#1), (k1_t96_loop i v430 v436).OK) ∧
  (∀ k1_t96 : Fin (k1_t96_loop i v430 v436).trips, ∀ (k1_h48 : k1_cond48 i v430 v436 = 1#1), ∀ a, (k1_off383 i v430 v436 k1_t96) a + S1x16.size a ≤ S256x128.size a) ∧
  (∀ k1_t96 : Fin (k1_t96_loop i v430 v436).trips, ∀ (k1_h48 : k1_cond48 i v430 v436 = 1#1), ∀ a, (k1_off384 i v430 v436 k1_t96) a + S1x16.size a ≤ S256x128.size a) ∧
  (∀ k1_t96 : Fin (k1_t96_loop i v430 v436).trips, ∀ (k1_h48 : k1_cond48 i v430 v436 = 1#1), ∀ a, (k1_off385 i v430 v436 k1_t96) a + S1x16.size a ≤ S256x128.size a) ∧
  (∀ k1_t96 : Fin (k1_t96_loop i v430 v436).trips, ∀ (k1_h48 : k1_cond48 i v430 v436 = 1#1), ∀ a, (k1_off386 i v430 v436 k1_t96) a + S1x16.size a ≤ S256x128.size a) ∧
  (∀ (k1_h80 : k1_cond80 i v430 v436 = 1#1), (k1_t159_loop i v430 v436).OK) ∧
  (∀ k1_t159 : Fin (k1_t159_loop i v430 v436).trips, ∀ (k1_h80 : k1_cond80 i v430 v436 = 1#1), ∀ a, (k1_off635 i v430 v436 k1_t159) a + S1x16.size a ≤ S256x128.size a) ∧
  (∀ k1_t159 : Fin (k1_t159_loop i v430 v436).trips, ∀ (k1_h80 : k1_cond80 i v430 v436 = 1#1), ∀ a, (k1_off636 i v430 v436 k1_t159) a + S1x16.size a ≤ S256x128.size a) ∧
  (∀ k1_t159 : Fin (k1_t159_loop i v430 v436).trips, ∀ (k1_h80 : k1_cond80 i v430 v436 = 1#1), ∀ a, (k1_off637 i v430 v436 k1_t159) a + S1x16.size a ≤ S256x128.size a) ∧
  (∀ k1_t159 : Fin (k1_t159_loop i v430 v436).trips, ∀ (k1_h80 : k1_cond80 i v430 v436 = 1#1), ∀ a, (k1_off638 i v430 v436 k1_t159) a + S1x16.size a ≤ S256x128.size a) ∧
  (∀ (k1_h80 : k1_cond80 i v430 v436 = 1#1), (k1_t160_loop i v430 v436).OK) ∧
  (∀ k1_t160 : Fin (k1_t160_loop i v430 v436).trips, ∀ (k1_h80 : k1_cond80 i v430 v436 = 1#1), ∀ a, (k1_off639 i v430 v436 k1_t160) a + S1x16.size a ≤ S256x128.size a) ∧
  (∀ k1_t160 : Fin (k1_t160_loop i v430 v436).trips, ∀ (k1_h80 : k1_cond80 i v430 v436 = 1#1), ∀ a, (k1_off640 i v430 v436 k1_t160) a + S1x16.size a ≤ S256x128.size a) ∧
  (∀ k1_t160 : Fin (k1_t160_loop i v430 v436).trips, ∀ (k1_h80 : k1_cond80 i v430 v436 = 1#1), ∀ a, (k1_off641 i v430 v436 k1_t160) a + S1x16.size a ≤ S256x128.size a) ∧
  (∀ k1_t160 : Fin (k1_t160_loop i v430 v436).trips, ∀ (k1_h80 : k1_cond80 i v430 v436 = 1#1), ∀ a, (k1_off642 i v430 v436 k1_t160) a + S1x16.size a ≤ S256x128.size a) ∧
  (∀ (k1_h112 : k1_cond112 i v430 v436 = 1#1), (k1_t223_loop i v430 v436).OK) ∧
  (∀ k1_t223 : Fin (k1_t223_loop i v430 v436).trips, ∀ (k1_h112 : k1_cond112 i v430 v436 = 1#1), ∀ a, (k1_off891 i v430 v436 k1_t223) a + S1x16.size a ≤ S256x128.size a)
def k1_chk16_1 (i : grid1.Coords) (v430 : BitVec 32) (v436 : BitVec 32) : Prop :=
  (∀ k1_t223 : Fin (k1_t223_loop i v430 v436).trips, ∀ (k1_h112 : k1_cond112 i v430 v436 = 1#1), ∀ a, (k1_off892 i v430 v436 k1_t223) a + S1x16.size a ≤ S256x128.size a) ∧
  (∀ k1_t223 : Fin (k1_t223_loop i v430 v436).trips, ∀ (k1_h112 : k1_cond112 i v430 v436 = 1#1), ∀ a, (k1_off893 i v430 v436 k1_t223) a + S1x16.size a ≤ S256x128.size a) ∧
  (∀ k1_t223 : Fin (k1_t223_loop i v430 v436).trips, ∀ (k1_h112 : k1_cond112 i v430 v436 = 1#1), ∀ a, (k1_off894 i v430 v436 k1_t223) a + S1x16.size a ≤ S256x128.size a) ∧
  (∀ (k1_h112 : k1_cond112 i v430 v436 = 1#1), (k1_t224_loop i v430 v436).OK) ∧
  (∀ k1_t224 : Fin (k1_t224_loop i v430 v436).trips, ∀ (k1_h112 : k1_cond112 i v430 v436 = 1#1), ∀ a, (k1_off895 i v430 v436 k1_t224) a + S1x16.size a ≤ S256x128.size a) ∧
  (∀ k1_t224 : Fin (k1_t224_loop i v430 v436).trips, ∀ (k1_h112 : k1_cond112 i v430 v436 = 1#1), ∀ a, (k1_off896 i v430 v436 k1_t224) a + S1x16.size a ≤ S256x128.size a) ∧
  (∀ k1_t224 : Fin (k1_t224_loop i v430 v436).trips, ∀ (k1_h112 : k1_cond112 i v430 v436 = 1#1), ∀ a, (k1_off897 i v430 v436 k1_t224) a + S1x16.size a ≤ S256x128.size a) ∧
  (∀ k1_t224 : Fin (k1_t224_loop i v430 v436).trips, ∀ (k1_h112 : k1_cond112 i v430 v436 = 1#1), ∀ a, (k1_off898 i v430 v436 k1_t224) a + S1x16.size a ≤ S256x128.size a)
def k1_chk16 (i : grid1.Coords) (v430 : BitVec 32) (v436 : BitVec 32) : Prop :=
  k1_chk16_0 i v430 v436 ∧
  k1_chk16_1 i v430 v436
theorem k1_t31_ok : ∀ (i : grid1.Coords) (v430 : BitVec 32) (v436 : BitVec 32) (k1_hw16 : k1_chk16 i v430 v436), ∀ (k1_h16 : k1_cond16 i v430 v436 = 1#1), (k1_t31_loop i v430 v436).OK := fun i v430 v436 k1_hw16 k1_h16 => k1_hw16.1.1 k1_h16
theorem k1_off122_inb : ∀ (i : grid1.Coords) (v430 : BitVec 32) (v436 : BitVec 32) (k1_hw16 : k1_chk16 i v430 v436) (k1_t31 : Fin (k1_t31_loop i v430 v436).trips), ∀ (k1_h16 : k1_cond16 i v430 v436 = 1#1), ∀ a, (k1_off122 i v430 v436 k1_t31) a + S1x16.size a ≤ S256x128.size a := fun i v430 v436 k1_hw16 k1_t31 k1_h16 => k1_hw16.1.2.1 k1_t31 k1_h16
theorem k1_off123_inb : ∀ (i : grid1.Coords) (v430 : BitVec 32) (v436 : BitVec 32) (k1_hw16 : k1_chk16 i v430 v436) (k1_t31 : Fin (k1_t31_loop i v430 v436).trips), ∀ (k1_h16 : k1_cond16 i v430 v436 = 1#1), ∀ a, (k1_off123 i v430 v436 k1_t31) a + S1x16.size a ≤ S256x128.size a := fun i v430 v436 k1_hw16 k1_t31 k1_h16 => k1_hw16.1.2.2.1 k1_t31 k1_h16
theorem k1_off124_inb : ∀ (i : grid1.Coords) (v430 : BitVec 32) (v436 : BitVec 32) (k1_hw16 : k1_chk16 i v430 v436) (k1_t31 : Fin (k1_t31_loop i v430 v436).trips), ∀ (k1_h16 : k1_cond16 i v430 v436 = 1#1), ∀ a, (k1_off124 i v430 v436 k1_t31) a + S1x16.size a ≤ S256x128.size a := fun i v430 v436 k1_hw16 k1_t31 k1_h16 => k1_hw16.1.2.2.2.1 k1_t31 k1_h16
theorem k1_off125_inb : ∀ (i : grid1.Coords) (v430 : BitVec 32) (v436 : BitVec 32) (k1_hw16 : k1_chk16 i v430 v436) (k1_t31 : Fin (k1_t31_loop i v430 v436).trips), ∀ (k1_h16 : k1_cond16 i v430 v436 = 1#1), ∀ a, (k1_off125 i v430 v436 k1_t31) a + S1x16.size a ≤ S256x128.size a := fun i v430 v436 k1_hw16 k1_t31 k1_h16 => k1_hw16.1.2.2.2.2.1 k1_t31 k1_h16
theorem k1_t32_ok : ∀ (i : grid1.Coords) (v430 : BitVec 32) (v436 : BitVec 32) (k1_hw16 : k1_chk16 i v430 v436), ∀ (k1_h16 : k1_cond16 i v430 v436 = 1#1), (k1_t32_loop i v430 v436).OK := fun i v430 v436 k1_hw16 k1_h16 => k1_hw16.1.2.2.2.2.2.1 k1_h16
theorem k1_off126_inb : ∀ (i : grid1.Coords) (v430 : BitVec 32) (v436 : BitVec 32) (k1_hw16 : k1_chk16 i v430 v436) (k1_t32 : Fin (k1_t32_loop i v430 v436).trips), ∀ (k1_h16 : k1_cond16 i v430 v436 = 1#1), ∀ a, (k1_off126 i v430 v436 k1_t32) a + S1x16.size a ≤ S256x128.size a := fun i v430 v436 k1_hw16 k1_t32 k1_h16 => k1_hw16.1.2.2.2.2.2.2.1 k1_t32 k1_h16
theorem k1_off127_inb : ∀ (i : grid1.Coords) (v430 : BitVec 32) (v436 : BitVec 32) (k1_hw16 : k1_chk16 i v430 v436) (k1_t32 : Fin (k1_t32_loop i v430 v436).trips), ∀ (k1_h16 : k1_cond16 i v430 v436 = 1#1), ∀ a, (k1_off127 i v430 v436 k1_t32) a + S1x16.size a ≤ S256x128.size a := fun i v430 v436 k1_hw16 k1_t32 k1_h16 => k1_hw16.1.2.2.2.2.2.2.2.1 k1_t32 k1_h16
theorem k1_off128_inb : ∀ (i : grid1.Coords) (v430 : BitVec 32) (v436 : BitVec 32) (k1_hw16 : k1_chk16 i v430 v436) (k1_t32 : Fin (k1_t32_loop i v430 v436).trips), ∀ (k1_h16 : k1_cond16 i v430 v436 = 1#1), ∀ a, (k1_off128 i v430 v436 k1_t32) a + S1x16.size a ≤ S256x128.size a := fun i v430 v436 k1_hw16 k1_t32 k1_h16 => k1_hw16.1.2.2.2.2.2.2.2.2.1 k1_t32 k1_h16
theorem k1_off129_inb : ∀ (i : grid1.Coords) (v430 : BitVec 32) (v436 : BitVec 32) (k1_hw16 : k1_chk16 i v430 v436) (k1_t32 : Fin (k1_t32_loop i v430 v436).trips), ∀ (k1_h16 : k1_cond16 i v430 v436 = 1#1), ∀ a, (k1_off129 i v430 v436 k1_t32) a + S1x16.size a ≤ S256x128.size a := fun i v430 v436 k1_hw16 k1_t32 k1_h16 => k1_hw16.1.2.2.2.2.2.2.2.2.2.1 k1_t32 k1_h16
theorem k1_t95_ok : ∀ (i : grid1.Coords) (v430 : BitVec 32) (v436 : BitVec 32) (k1_hw16 : k1_chk16 i v430 v436), ∀ (k1_h48 : k1_cond48 i v430 v436 = 1#1), (k1_t95_loop i v430 v436).OK := fun i v430 v436 k1_hw16 k1_h48 => k1_hw16.1.2.2.2.2.2.2.2.2.2.2.1 k1_h48
theorem k1_off379_inb : ∀ (i : grid1.Coords) (v430 : BitVec 32) (v436 : BitVec 32) (k1_hw16 : k1_chk16 i v430 v436) (k1_t95 : Fin (k1_t95_loop i v430 v436).trips), ∀ (k1_h48 : k1_cond48 i v430 v436 = 1#1), ∀ a, (k1_off379 i v430 v436 k1_t95) a + S1x16.size a ≤ S256x128.size a := fun i v430 v436 k1_hw16 k1_t95 k1_h48 => k1_hw16.1.2.2.2.2.2.2.2.2.2.2.2.1 k1_t95 k1_h48
theorem k1_off380_inb : ∀ (i : grid1.Coords) (v430 : BitVec 32) (v436 : BitVec 32) (k1_hw16 : k1_chk16 i v430 v436) (k1_t95 : Fin (k1_t95_loop i v430 v436).trips), ∀ (k1_h48 : k1_cond48 i v430 v436 = 1#1), ∀ a, (k1_off380 i v430 v436 k1_t95) a + S1x16.size a ≤ S256x128.size a := fun i v430 v436 k1_hw16 k1_t95 k1_h48 => k1_hw16.1.2.2.2.2.2.2.2.2.2.2.2.2.1 k1_t95 k1_h48
theorem k1_off381_inb : ∀ (i : grid1.Coords) (v430 : BitVec 32) (v436 : BitVec 32) (k1_hw16 : k1_chk16 i v430 v436) (k1_t95 : Fin (k1_t95_loop i v430 v436).trips), ∀ (k1_h48 : k1_cond48 i v430 v436 = 1#1), ∀ a, (k1_off381 i v430 v436 k1_t95) a + S1x16.size a ≤ S256x128.size a := fun i v430 v436 k1_hw16 k1_t95 k1_h48 => k1_hw16.1.2.2.2.2.2.2.2.2.2.2.2.2.2.1 k1_t95 k1_h48
theorem k1_off382_inb : ∀ (i : grid1.Coords) (v430 : BitVec 32) (v436 : BitVec 32) (k1_hw16 : k1_chk16 i v430 v436) (k1_t95 : Fin (k1_t95_loop i v430 v436).trips), ∀ (k1_h48 : k1_cond48 i v430 v436 = 1#1), ∀ a, (k1_off382 i v430 v436 k1_t95) a + S1x16.size a ≤ S256x128.size a := fun i v430 v436 k1_hw16 k1_t95 k1_h48 => k1_hw16.1.2.2.2.2.2.2.2.2.2.2.2.2.2.2.1 k1_t95 k1_h48
theorem k1_t96_ok : ∀ (i : grid1.Coords) (v430 : BitVec 32) (v436 : BitVec 32) (k1_hw16 : k1_chk16 i v430 v436), ∀ (k1_h48 : k1_cond48 i v430 v436 = 1#1), (k1_t96_loop i v430 v436).OK := fun i v430 v436 k1_hw16 k1_h48 => k1_hw16.1.2.2.2.2.2.2.2.2.2.2.2.2.2.2.2.1 k1_h48
theorem k1_off383_inb : ∀ (i : grid1.Coords) (v430 : BitVec 32) (v436 : BitVec 32) (k1_hw16 : k1_chk16 i v430 v436) (k1_t96 : Fin (k1_t96_loop i v430 v436).trips), ∀ (k1_h48 : k1_cond48 i v430 v436 = 1#1), ∀ a, (k1_off383 i v430 v436 k1_t96) a + S1x16.size a ≤ S256x128.size a := fun i v430 v436 k1_hw16 k1_t96 k1_h48 => k1_hw16.1.2.2.2.2.2.2.2.2.2.2.2.2.2.2.2.2.1 k1_t96 k1_h48
theorem k1_off384_inb : ∀ (i : grid1.Coords) (v430 : BitVec 32) (v436 : BitVec 32) (k1_hw16 : k1_chk16 i v430 v436) (k1_t96 : Fin (k1_t96_loop i v430 v436).trips), ∀ (k1_h48 : k1_cond48 i v430 v436 = 1#1), ∀ a, (k1_off384 i v430 v436 k1_t96) a + S1x16.size a ≤ S256x128.size a := fun i v430 v436 k1_hw16 k1_t96 k1_h48 => k1_hw16.1.2.2.2.2.2.2.2.2.2.2.2.2.2.2.2.2.2.1 k1_t96 k1_h48
theorem k1_off385_inb : ∀ (i : grid1.Coords) (v430 : BitVec 32) (v436 : BitVec 32) (k1_hw16 : k1_chk16 i v430 v436) (k1_t96 : Fin (k1_t96_loop i v430 v436).trips), ∀ (k1_h48 : k1_cond48 i v430 v436 = 1#1), ∀ a, (k1_off385 i v430 v436 k1_t96) a + S1x16.size a ≤ S256x128.size a := fun i v430 v436 k1_hw16 k1_t96 k1_h48 => k1_hw16.1.2.2.2.2.2.2.2.2.2.2.2.2.2.2.2.2.2.2.1 k1_t96 k1_h48
theorem k1_off386_inb : ∀ (i : grid1.Coords) (v430 : BitVec 32) (v436 : BitVec 32) (k1_hw16 : k1_chk16 i v430 v436) (k1_t96 : Fin (k1_t96_loop i v430 v436).trips), ∀ (k1_h48 : k1_cond48 i v430 v436 = 1#1), ∀ a, (k1_off386 i v430 v436 k1_t96) a + S1x16.size a ≤ S256x128.size a := fun i v430 v436 k1_hw16 k1_t96 k1_h48 => k1_hw16.1.2.2.2.2.2.2.2.2.2.2.2.2.2.2.2.2.2.2.2.1 k1_t96 k1_h48
theorem k1_t159_ok : ∀ (i : grid1.Coords) (v430 : BitVec 32) (v436 : BitVec 32) (k1_hw16 : k1_chk16 i v430 v436), ∀ (k1_h80 : k1_cond80 i v430 v436 = 1#1), (k1_t159_loop i v430 v436).OK := fun i v430 v436 k1_hw16 k1_h80 => k1_hw16.1.2.2.2.2.2.2.2.2.2.2.2.2.2.2.2.2.2.2.2.2.1 k1_h80
theorem k1_off635_inb : ∀ (i : grid1.Coords) (v430 : BitVec 32) (v436 : BitVec 32) (k1_hw16 : k1_chk16 i v430 v436) (k1_t159 : Fin (k1_t159_loop i v430 v436).trips), ∀ (k1_h80 : k1_cond80 i v430 v436 = 1#1), ∀ a, (k1_off635 i v430 v436 k1_t159) a + S1x16.size a ≤ S256x128.size a := fun i v430 v436 k1_hw16 k1_t159 k1_h80 => k1_hw16.1.2.2.2.2.2.2.2.2.2.2.2.2.2.2.2.2.2.2.2.2.2.1 k1_t159 k1_h80
theorem k1_off636_inb : ∀ (i : grid1.Coords) (v430 : BitVec 32) (v436 : BitVec 32) (k1_hw16 : k1_chk16 i v430 v436) (k1_t159 : Fin (k1_t159_loop i v430 v436).trips), ∀ (k1_h80 : k1_cond80 i v430 v436 = 1#1), ∀ a, (k1_off636 i v430 v436 k1_t159) a + S1x16.size a ≤ S256x128.size a := fun i v430 v436 k1_hw16 k1_t159 k1_h80 => k1_hw16.1.2.2.2.2.2.2.2.2.2.2.2.2.2.2.2.2.2.2.2.2.2.2.1 k1_t159 k1_h80
theorem k1_off637_inb : ∀ (i : grid1.Coords) (v430 : BitVec 32) (v436 : BitVec 32) (k1_hw16 : k1_chk16 i v430 v436) (k1_t159 : Fin (k1_t159_loop i v430 v436).trips), ∀ (k1_h80 : k1_cond80 i v430 v436 = 1#1), ∀ a, (k1_off637 i v430 v436 k1_t159) a + S1x16.size a ≤ S256x128.size a := fun i v430 v436 k1_hw16 k1_t159 k1_h80 => k1_hw16.1.2.2.2.2.2.2.2.2.2.2.2.2.2.2.2.2.2.2.2.2.2.2.2.1 k1_t159 k1_h80
theorem k1_off638_inb : ∀ (i : grid1.Coords) (v430 : BitVec 32) (v436 : BitVec 32) (k1_hw16 : k1_chk16 i v430 v436) (k1_t159 : Fin (k1_t159_loop i v430 v436).trips), ∀ (k1_h80 : k1_cond80 i v430 v436 = 1#1), ∀ a, (k1_off638 i v430 v436 k1_t159) a + S1x16.size a ≤ S256x128.size a := fun i v430 v436 k1_hw16 k1_t159 k1_h80 => k1_hw16.1.2.2.2.2.2.2.2.2.2.2.2.2.2.2.2.2.2.2.2.2.2.2.2.2.1 k1_t159 k1_h80
theorem k1_t160_ok : ∀ (i : grid1.Coords) (v430 : BitVec 32) (v436 : BitVec 32) (k1_hw16 : k1_chk16 i v430 v436), ∀ (k1_h80 : k1_cond80 i v430 v436 = 1#1), (k1_t160_loop i v430 v436).OK := fun i v430 v436 k1_hw16 k1_h80 => k1_hw16.1.2.2.2.2.2.2.2.2.2.2.2.2.2.2.2.2.2.2.2.2.2.2.2.2.2.1 k1_h80
theorem k1_off639_inb : ∀ (i : grid1.Coords) (v430 : BitVec 32) (v436 : BitVec 32) (k1_hw16 : k1_chk16 i v430 v436) (k1_t160 : Fin (k1_t160_loop i v430 v436).trips), ∀ (k1_h80 : k1_cond80 i v430 v436 = 1#1), ∀ a, (k1_off639 i v430 v436 k1_t160) a + S1x16.size a ≤ S256x128.size a := fun i v430 v436 k1_hw16 k1_t160 k1_h80 => k1_hw16.1.2.2.2.2.2.2.2.2.2.2.2.2.2.2.2.2.2.2.2.2.2.2.2.2.2.2.1 k1_t160 k1_h80
theorem k1_off640_inb : ∀ (i : grid1.Coords) (v430 : BitVec 32) (v436 : BitVec 32) (k1_hw16 : k1_chk16 i v430 v436) (k1_t160 : Fin (k1_t160_loop i v430 v436).trips), ∀ (k1_h80 : k1_cond80 i v430 v436 = 1#1), ∀ a, (k1_off640 i v430 v436 k1_t160) a + S1x16.size a ≤ S256x128.size a := fun i v430 v436 k1_hw16 k1_t160 k1_h80 => k1_hw16.1.2.2.2.2.2.2.2.2.2.2.2.2.2.2.2.2.2.2.2.2.2.2.2.2.2.2.2.1 k1_t160 k1_h80
theorem k1_off641_inb : ∀ (i : grid1.Coords) (v430 : BitVec 32) (v436 : BitVec 32) (k1_hw16 : k1_chk16 i v430 v436) (k1_t160 : Fin (k1_t160_loop i v430 v436).trips), ∀ (k1_h80 : k1_cond80 i v430 v436 = 1#1), ∀ a, (k1_off641 i v430 v436 k1_t160) a + S1x16.size a ≤ S256x128.size a := fun i v430 v436 k1_hw16 k1_t160 k1_h80 => k1_hw16.1.2.2.2.2.2.2.2.2.2.2.2.2.2.2.2.2.2.2.2.2.2.2.2.2.2.2.2.2.1 k1_t160 k1_h80
theorem k1_off642_inb : ∀ (i : grid1.Coords) (v430 : BitVec 32) (v436 : BitVec 32) (k1_hw16 : k1_chk16 i v430 v436) (k1_t160 : Fin (k1_t160_loop i v430 v436).trips), ∀ (k1_h80 : k1_cond80 i v430 v436 = 1#1), ∀ a, (k1_off642 i v430 v436 k1_t160) a + S1x16.size a ≤ S256x128.size a := fun i v430 v436 k1_hw16 k1_t160 k1_h80 => k1_hw16.1.2.2.2.2.2.2.2.2.2.2.2.2.2.2.2.2.2.2.2.2.2.2.2.2.2.2.2.2.2.1 k1_t160 k1_h80
theorem k1_t223_ok : ∀ (i : grid1.Coords) (v430 : BitVec 32) (v436 : BitVec 32) (k1_hw16 : k1_chk16 i v430 v436), ∀ (k1_h112 : k1_cond112 i v430 v436 = 1#1), (k1_t223_loop i v430 v436).OK := fun i v430 v436 k1_hw16 k1_h112 => k1_hw16.1.2.2.2.2.2.2.2.2.2.2.2.2.2.2.2.2.2.2.2.2.2.2.2.2.2.2.2.2.2.2.1 k1_h112
theorem k1_off891_inb : ∀ (i : grid1.Coords) (v430 : BitVec 32) (v436 : BitVec 32) (k1_hw16 : k1_chk16 i v430 v436) (k1_t223 : Fin (k1_t223_loop i v430 v436).trips), ∀ (k1_h112 : k1_cond112 i v430 v436 = 1#1), ∀ a, (k1_off891 i v430 v436 k1_t223) a + S1x16.size a ≤ S256x128.size a := fun i v430 v436 k1_hw16 k1_t223 k1_h112 => k1_hw16.1.2.2.2.2.2.2.2.2.2.2.2.2.2.2.2.2.2.2.2.2.2.2.2.2.2.2.2.2.2.2.2 k1_t223 k1_h112
theorem k1_off892_inb : ∀ (i : grid1.Coords) (v430 : BitVec 32) (v436 : BitVec 32) (k1_hw16 : k1_chk16 i v430 v436) (k1_t223 : Fin (k1_t223_loop i v430 v436).trips), ∀ (k1_h112 : k1_cond112 i v430 v436 = 1#1), ∀ a, (k1_off892 i v430 v436 k1_t223) a + S1x16.size a ≤ S256x128.size a := fun i v430 v436 k1_hw16 k1_t223 k1_h112 => k1_hw16.2.1 k1_t223 k1_h112
theorem k1_off893_inb : ∀ (i : grid1.Coords) (v430 : BitVec 32) (v436 : BitVec 32) (k1_hw16 : k1_chk16 i v430 v436) (k1_t223 : Fin (k1_t223_loop i v430 v436).trips), ∀ (k1_h112 : k1_cond112 i v430 v436 = 1#1), ∀ a, (k1_off893 i v430 v436 k1_t223) a + S1x16.size a ≤ S256x128.size a := fun i v430 v436 k1_hw16 k1_t223 k1_h112 => k1_hw16.2.2.1 k1_t223 k1_h112
theorem k1_off894_inb : ∀ (i : grid1.Coords) (v430 : BitVec 32) (v436 : BitVec 32) (k1_hw16 : k1_chk16 i v430 v436) (k1_t223 : Fin (k1_t223_loop i v430 v436).trips), ∀ (k1_h112 : k1_cond112 i v430 v436 = 1#1), ∀ a, (k1_off894 i v430 v436 k1_t223) a + S1x16.size a ≤ S256x128.size a := fun i v430 v436 k1_hw16 k1_t223 k1_h112 => k1_hw16.2.2.2.1 k1_t223 k1_h112
theorem k1_t224_ok : ∀ (i : grid1.Coords) (v430 : BitVec 32) (v436 : BitVec 32) (k1_hw16 : k1_chk16 i v430 v436), ∀ (k1_h112 : k1_cond112 i v430 v436 = 1#1), (k1_t224_loop i v430 v436).OK := fun i v430 v436 k1_hw16 k1_h112 => k1_hw16.2.2.2.2.1 k1_h112
theorem k1_off895_inb : ∀ (i : grid1.Coords) (v430 : BitVec 32) (v436 : BitVec 32) (k1_hw16 : k1_chk16 i v430 v436) (k1_t224 : Fin (k1_t224_loop i v430 v436).trips), ∀ (k1_h112 : k1_cond112 i v430 v436 = 1#1), ∀ a, (k1_off895 i v430 v436 k1_t224) a + S1x16.size a ≤ S256x128.size a := fun i v430 v436 k1_hw16 k1_t224 k1_h112 => k1_hw16.2.2.2.2.2.1 k1_t224 k1_h112
theorem k1_off896_inb : ∀ (i : grid1.Coords) (v430 : BitVec 32) (v436 : BitVec 32) (k1_hw16 : k1_chk16 i v430 v436) (k1_t224 : Fin (k1_t224_loop i v430 v436).trips), ∀ (k1_h112 : k1_cond112 i v430 v436 = 1#1), ∀ a, (k1_off896 i v430 v436 k1_t224) a + S1x16.size a ≤ S256x128.size a := fun i v430 v436 k1_hw16 k1_t224 k1_h112 => k1_hw16.2.2.2.2.2.2.1 k1_t224 k1_h112
theorem k1_off897_inb : ∀ (i : grid1.Coords) (v430 : BitVec 32) (v436 : BitVec 32) (k1_hw16 : k1_chk16 i v430 v436) (k1_t224 : Fin (k1_t224_loop i v430 v436).trips), ∀ (k1_h112 : k1_cond112 i v430 v436 = 1#1), ∀ a, (k1_off897 i v430 v436 k1_t224) a + S1x16.size a ≤ S256x128.size a := fun i v430 v436 k1_hw16 k1_t224 k1_h112 => k1_hw16.2.2.2.2.2.2.2.1 k1_t224 k1_h112
theorem k1_off898_inb : ∀ (i : grid1.Coords) (v430 : BitVec 32) (v436 : BitVec 32) (k1_hw16 : k1_chk16 i v430 v436) (k1_t224 : Fin (k1_t224_loop i v430 v436).trips), ∀ (k1_h112 : k1_cond112 i v430 v436 = 1#1), ∀ a, (k1_off898 i v430 v436 k1_t224) a + S1x16.size a ≤ S256x128.size a := fun i v430 v436 k1_hw16 k1_t224 k1_h112 => k1_hw16.2.2.2.2.2.2.2.2 k1_t224 k1_h112

@[reducible] def k1_t225_loop (i : grid1.Coords) (v442 : BitVec 32) (v447 : BitVec 32) : Scf.Loop 32 :=
  let c256_i32_1078 : BitVec 32 := 256#32
  let c0_i32_1077 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let c256_i32_1081 : BitVec 32 := 256#32
  let c0_i32_1080 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c768_i32_1079 : BitVec 32 := 768#32
  let v1652 : BitVec 32 := Scalar.subi v450 c768_i32_1079
  let v1653 : BitVec 32 := Scalar.maxsi c0_i32_1080 v1652
  let v1654 : BitVec 32 := Scalar.minsi c256_i32_1081 v1653
  let v1805 : BitVec 32 := Scalar.subi v1654 v1651
  let c1_i32_1196 : BitVec 32 := 1#32
  let v1807 : BitVec 32 := Scalar.divsi v1805 c1_i32_1196
  let v1808 : BitVec 32 := Scalar.muli v1807 c1_i32_1196
  let v1809 : BitVec 32 := Scalar.addi v1651 v1808
  let c1_i32_1197 : BitVec 32 := 1#32
  ⟨v1651, v1809, c1_i32_1197⟩
def k1_cond113 (i : grid1.Coords) (v442 : BitVec 32) (v447 : BitVec 32) : BitVec 1 :=
  let c256_i32_1081 : BitVec 32 := 256#32
  let c0_i32_1080 : BitVec 32 := 0#32
  let c1024_i32_194 : BitVec 32 := 1024#32
  let c0_i32_193 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v448 : BitVec 32 := Scalar.subi v447 v3
  let v449 : BitVec 32 := Scalar.maxsi c0_i32_193 v448
  let v450 : BitVec 32 := Scalar.minsi c1024_i32_194 v449
  let c768_i32_1079 : BitVec 32 := 768#32
  let v1652 : BitVec 32 := Scalar.subi v450 c768_i32_1079
  let v1653 : BitVec 32 := Scalar.maxsi c0_i32_1080 v1652
  let v1654 : BitVec 32 := Scalar.minsi c256_i32_1081 v1653
  let c256_i32_1078 : BitVec 32 := 256#32
  let c0_i32_1077 : BitVec 32 := 0#32
  let c1024_i32_192 : BitVec 32 := 1024#32
  let c0_i32_191 : BitVec 32 := 0#32
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let v1655 : BitVec 1 := Scalar.cmpi .sgt v1654 v1651
  let v1656 : BitVec 32 := Scalar.extui v1655
  let c0_i32_1082 : BitVec 32 := 0#32
  let v1657 : BitVec 1 := Scalar.cmpi .ne v1656 c0_i32_1082
  v1657

def k1_off899 (i : grid1.Coords) (v442 : BitVec 32) (v447 : BitVec 32) (k1_t225 : Fin (k1_t225_loop i v442 v447).trips) : Fin 2 → Nat :=
  let c256_i32_1078 : BitVec 32 := 256#32
  let c0_i32_1077 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let c1_i32_1197 : BitVec 32 := 1#32
  let arg13 : BitVec 32 := Scf.iv v1651 c1_i32_1197 k1_t225
  let v1828 : Index := Scalar.indexCast arg13
  let c0_1207 : Index := 0#32
  ![v1828.toNat, 0]
def k1_off900 (i : grid1.Coords) (v442 : BitVec 32) (v447 : BitVec 32) (k1_t225 : Fin (k1_t225_loop i v442 v447).trips) : Fin 2 → Nat :=
  let c256_i32_1078 : BitVec 32 := 256#32
  let c0_i32_1077 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let c1_i32_1197 : BitVec 32 := 1#32
  let arg13 : BitVec 32 := Scf.iv v1651 c1_i32_1197 k1_t225
  let v1832 : Index := Scalar.indexCast arg13
  let c16_1208 : Index := 16#32
  ![v1832.toNat, 16]
def k1_off901 (i : grid1.Coords) (v442 : BitVec 32) (v447 : BitVec 32) (k1_t225 : Fin (k1_t225_loop i v442 v447).trips) : Fin 2 → Nat :=
  let c256_i32_1078 : BitVec 32 := 256#32
  let c0_i32_1077 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let c1_i32_1197 : BitVec 32 := 1#32
  let arg13 : BitVec 32 := Scf.iv v1651 c1_i32_1197 k1_t225
  let v1836 : Index := Scalar.indexCast arg13
  let c32_1209 : Index := 32#32
  ![v1836.toNat, 32]
def k1_off902 (i : grid1.Coords) (v442 : BitVec 32) (v447 : BitVec 32) (k1_t225 : Fin (k1_t225_loop i v442 v447).trips) : Fin 2 → Nat :=
  let c256_i32_1078 : BitVec 32 := 256#32
  let c0_i32_1077 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let c1_i32_1197 : BitVec 32 := 1#32
  let arg13 : BitVec 32 := Scf.iv v1651 c1_i32_1197 k1_t225
  let v1840 : Index := Scalar.indexCast arg13
  let c48_1210 : Index := 48#32
  ![v1840.toNat, 48]
@[reducible] def k1_t226_loop (i : grid1.Coords) (v442 : BitVec 32) (v447 : BitVec 32) : Scf.Loop 32 :=
  let c256_i32_1078 : BitVec 32 := 256#32
  let c0_i32_1077 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let c256_i32_1081 : BitVec 32 := 256#32
  let c0_i32_1080 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c768_i32_1079 : BitVec 32 := 768#32
  let v1652 : BitVec 32 := Scalar.subi v450 c768_i32_1079
  let v1653 : BitVec 32 := Scalar.maxsi c0_i32_1080 v1652
  let v1654 : BitVec 32 := Scalar.minsi c256_i32_1081 v1653
  let v1805 : BitVec 32 := Scalar.subi v1654 v1651
  let c1_i32_1196 : BitVec 32 := 1#32
  let v1807 : BitVec 32 := Scalar.divsi v1805 c1_i32_1196
  let v1808 : BitVec 32 := Scalar.muli v1807 c1_i32_1196
  let v1809 : BitVec 32 := Scalar.addi v1651 v1808
  let v1806 : BitVec 32 := Scalar.addi v1651 v1805
  let c1_i32_1198 : BitVec 32 := 1#32
  ⟨v1809, v1806, c1_i32_1198⟩
def k1_off903 (i : grid1.Coords) (v442 : BitVec 32) (v447 : BitVec 32) (k1_t226 : Fin (k1_t226_loop i v442 v447).trips) : Fin 2 → Nat :=
  let c256_i32_1078 : BitVec 32 := 256#32
  let c0_i32_1077 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let c256_i32_1081 : BitVec 32 := 256#32
  let c0_i32_1080 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c768_i32_1079 : BitVec 32 := 768#32
  let v1652 : BitVec 32 := Scalar.subi v450 c768_i32_1079
  let v1653 : BitVec 32 := Scalar.maxsi c0_i32_1080 v1652
  let v1654 : BitVec 32 := Scalar.minsi c256_i32_1081 v1653
  let v1805 : BitVec 32 := Scalar.subi v1654 v1651
  let c1_i32_1196 : BitVec 32 := 1#32
  let v1807 : BitVec 32 := Scalar.divsi v1805 c1_i32_1196
  let v1808 : BitVec 32 := Scalar.muli v1807 c1_i32_1196
  let v1809 : BitVec 32 := Scalar.addi v1651 v1808
  let c1_i32_1198 : BitVec 32 := 1#32
  let arg13 : BitVec 32 := Scf.iv v1809 c1_i32_1198 k1_t226
  let v1828 : Index := Scalar.indexCast arg13
  let c0_1207 : Index := 0#32
  ![v1828.toNat, 0]
def k1_off904 (i : grid1.Coords) (v442 : BitVec 32) (v447 : BitVec 32) (k1_t226 : Fin (k1_t226_loop i v442 v447).trips) : Fin 2 → Nat :=
  let c256_i32_1078 : BitVec 32 := 256#32
  let c0_i32_1077 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let c256_i32_1081 : BitVec 32 := 256#32
  let c0_i32_1080 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c768_i32_1079 : BitVec 32 := 768#32
  let v1652 : BitVec 32 := Scalar.subi v450 c768_i32_1079
  let v1653 : BitVec 32 := Scalar.maxsi c0_i32_1080 v1652
  let v1654 : BitVec 32 := Scalar.minsi c256_i32_1081 v1653
  let v1805 : BitVec 32 := Scalar.subi v1654 v1651
  let c1_i32_1196 : BitVec 32 := 1#32
  let v1807 : BitVec 32 := Scalar.divsi v1805 c1_i32_1196
  let v1808 : BitVec 32 := Scalar.muli v1807 c1_i32_1196
  let v1809 : BitVec 32 := Scalar.addi v1651 v1808
  let c1_i32_1198 : BitVec 32 := 1#32
  let arg13 : BitVec 32 := Scf.iv v1809 c1_i32_1198 k1_t226
  let v1832 : Index := Scalar.indexCast arg13
  let c16_1208 : Index := 16#32
  ![v1832.toNat, 16]
def k1_off905 (i : grid1.Coords) (v442 : BitVec 32) (v447 : BitVec 32) (k1_t226 : Fin (k1_t226_loop i v442 v447).trips) : Fin 2 → Nat :=
  let c256_i32_1078 : BitVec 32 := 256#32
  let c0_i32_1077 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let c256_i32_1081 : BitVec 32 := 256#32
  let c0_i32_1080 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c768_i32_1079 : BitVec 32 := 768#32
  let v1652 : BitVec 32 := Scalar.subi v450 c768_i32_1079
  let v1653 : BitVec 32 := Scalar.maxsi c0_i32_1080 v1652
  let v1654 : BitVec 32 := Scalar.minsi c256_i32_1081 v1653
  let v1805 : BitVec 32 := Scalar.subi v1654 v1651
  let c1_i32_1196 : BitVec 32 := 1#32
  let v1807 : BitVec 32 := Scalar.divsi v1805 c1_i32_1196
  let v1808 : BitVec 32 := Scalar.muli v1807 c1_i32_1196
  let v1809 : BitVec 32 := Scalar.addi v1651 v1808
  let c1_i32_1198 : BitVec 32 := 1#32
  let arg13 : BitVec 32 := Scf.iv v1809 c1_i32_1198 k1_t226
  let v1836 : Index := Scalar.indexCast arg13
  let c32_1209 : Index := 32#32
  ![v1836.toNat, 32]
def k1_off906 (i : grid1.Coords) (v442 : BitVec 32) (v447 : BitVec 32) (k1_t226 : Fin (k1_t226_loop i v442 v447).trips) : Fin 2 → Nat :=
  let c256_i32_1078 : BitVec 32 := 256#32
  let c0_i32_1077 : BitVec 32 := 0#32
  let c1024_i32_192 : BitVec 32 := 1024#32
  let c0_i32_191 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v443 : BitVec 32 := Scalar.subi v442 v3
  let v444 : BitVec 32 := Scalar.maxsi c0_i32_191 v443
  let v445 : BitVec 32 := Scalar.minsi c1024_i32_192 v444
  let c768_i32_1076 : BitVec 32 := 768#32
  let v1649 : BitVec 32 := Scalar.subi v445 c768_i32_1076
  let v1650 : BitVec 32 := Scalar.maxsi c0_i32_1077 v1649
  let v1651 : BitVec 32 := Scalar.minsi c256_i32_1078 v1650
  let c256_i32_1081 : BitVec 32 := 256#32
  let c0_i32_1080 : BitVec 32 := 0#32
  let c1024_i32_194 : BitVec 32 := 1024#32
  let c0_i32_193 : BitVec 32 := 0#32
  let v448 : BitVec 32 := Scalar.subi v447 v3
  let v449 : BitVec 32 := Scalar.maxsi c0_i32_193 v448
  let v450 : BitVec 32 := Scalar.minsi c1024_i32_194 v449
  let c768_i32_1079 : BitVec 32 := 768#32
  let v1652 : BitVec 32 := Scalar.subi v450 c768_i32_1079
  let v1653 : BitVec 32 := Scalar.maxsi c0_i32_1080 v1652
  let v1654 : BitVec 32 := Scalar.minsi c256_i32_1081 v1653
  let v1805 : BitVec 32 := Scalar.subi v1654 v1651
  let c1_i32_1196 : BitVec 32 := 1#32
  let v1807 : BitVec 32 := Scalar.divsi v1805 c1_i32_1196
  let v1808 : BitVec 32 := Scalar.muli v1807 c1_i32_1196
  let v1809 : BitVec 32 := Scalar.addi v1651 v1808
  let c1_i32_1198 : BitVec 32 := 1#32
  let arg13 : BitVec 32 := Scf.iv v1809 c1_i32_1198 k1_t226
  let v1840 : Index := Scalar.indexCast arg13
  let c48_1210 : Index := 48#32
  ![v1840.toNat, 48]

def k1_chk17_0 (i : grid1.Coords) (v442 : BitVec 32) (v447 : BitVec 32) : Prop :=
  (∀ (k1_h17 : k1_cond17 i v442 v447 = 1#1), (k1_t33_loop i v442 v447).OK) ∧
  (∀ k1_t33 : Fin (k1_t33_loop i v442 v447).trips, ∀ (k1_h17 : k1_cond17 i v442 v447 = 1#1), ∀ a, (k1_off130 i v442 v447 k1_t33) a + S1x16.size a ≤ S256x128.size a) ∧
  (∀ k1_t33 : Fin (k1_t33_loop i v442 v447).trips, ∀ (k1_h17 : k1_cond17 i v442 v447 = 1#1), ∀ a, (k1_off131 i v442 v447 k1_t33) a + S1x16.size a ≤ S256x128.size a) ∧
  (∀ k1_t33 : Fin (k1_t33_loop i v442 v447).trips, ∀ (k1_h17 : k1_cond17 i v442 v447 = 1#1), ∀ a, (k1_off132 i v442 v447 k1_t33) a + S1x16.size a ≤ S256x128.size a) ∧
  (∀ k1_t33 : Fin (k1_t33_loop i v442 v447).trips, ∀ (k1_h17 : k1_cond17 i v442 v447 = 1#1), ∀ a, (k1_off133 i v442 v447 k1_t33) a + S1x16.size a ≤ S256x128.size a) ∧
  (∀ (k1_h17 : k1_cond17 i v442 v447 = 1#1), (k1_t34_loop i v442 v447).OK) ∧
  (∀ k1_t34 : Fin (k1_t34_loop i v442 v447).trips, ∀ (k1_h17 : k1_cond17 i v442 v447 = 1#1), ∀ a, (k1_off134 i v442 v447 k1_t34) a + S1x16.size a ≤ S256x128.size a) ∧
  (∀ k1_t34 : Fin (k1_t34_loop i v442 v447).trips, ∀ (k1_h17 : k1_cond17 i v442 v447 = 1#1), ∀ a, (k1_off135 i v442 v447 k1_t34) a + S1x16.size a ≤ S256x128.size a) ∧
  (∀ k1_t34 : Fin (k1_t34_loop i v442 v447).trips, ∀ (k1_h17 : k1_cond17 i v442 v447 = 1#1), ∀ a, (k1_off136 i v442 v447 k1_t34) a + S1x16.size a ≤ S256x128.size a) ∧
  (∀ k1_t34 : Fin (k1_t34_loop i v442 v447).trips, ∀ (k1_h17 : k1_cond17 i v442 v447 = 1#1), ∀ a, (k1_off137 i v442 v447 k1_t34) a + S1x16.size a ≤ S256x128.size a) ∧
  (∀ (k1_h49 : k1_cond49 i v442 v447 = 1#1), (k1_t97_loop i v442 v447).OK) ∧
  (∀ k1_t97 : Fin (k1_t97_loop i v442 v447).trips, ∀ (k1_h49 : k1_cond49 i v442 v447 = 1#1), ∀ a, (k1_off387 i v442 v447 k1_t97) a + S1x16.size a ≤ S256x128.size a) ∧
  (∀ k1_t97 : Fin (k1_t97_loop i v442 v447).trips, ∀ (k1_h49 : k1_cond49 i v442 v447 = 1#1), ∀ a, (k1_off388 i v442 v447 k1_t97) a + S1x16.size a ≤ S256x128.size a) ∧
  (∀ k1_t97 : Fin (k1_t97_loop i v442 v447).trips, ∀ (k1_h49 : k1_cond49 i v442 v447 = 1#1), ∀ a, (k1_off389 i v442 v447 k1_t97) a + S1x16.size a ≤ S256x128.size a) ∧
  (∀ k1_t97 : Fin (k1_t97_loop i v442 v447).trips, ∀ (k1_h49 : k1_cond49 i v442 v447 = 1#1), ∀ a, (k1_off390 i v442 v447 k1_t97) a + S1x16.size a ≤ S256x128.size a) ∧
  (∀ (k1_h49 : k1_cond49 i v442 v447 = 1#1), (k1_t98_loop i v442 v447).OK) ∧
  (∀ k1_t98 : Fin (k1_t98_loop i v442 v447).trips, ∀ (k1_h49 : k1_cond49 i v442 v447 = 1#1), ∀ a, (k1_off391 i v442 v447 k1_t98) a + S1x16.size a ≤ S256x128.size a) ∧
  (∀ k1_t98 : Fin (k1_t98_loop i v442 v447).trips, ∀ (k1_h49 : k1_cond49 i v442 v447 = 1#1), ∀ a, (k1_off392 i v442 v447 k1_t98) a + S1x16.size a ≤ S256x128.size a) ∧
  (∀ k1_t98 : Fin (k1_t98_loop i v442 v447).trips, ∀ (k1_h49 : k1_cond49 i v442 v447 = 1#1), ∀ a, (k1_off393 i v442 v447 k1_t98) a + S1x16.size a ≤ S256x128.size a) ∧
  (∀ k1_t98 : Fin (k1_t98_loop i v442 v447).trips, ∀ (k1_h49 : k1_cond49 i v442 v447 = 1#1), ∀ a, (k1_off394 i v442 v447 k1_t98) a + S1x16.size a ≤ S256x128.size a) ∧
  (∀ (k1_h81 : k1_cond81 i v442 v447 = 1#1), (k1_t161_loop i v442 v447).OK) ∧
  (∀ k1_t161 : Fin (k1_t161_loop i v442 v447).trips, ∀ (k1_h81 : k1_cond81 i v442 v447 = 1#1), ∀ a, (k1_off643 i v442 v447 k1_t161) a + S1x16.size a ≤ S256x128.size a) ∧
  (∀ k1_t161 : Fin (k1_t161_loop i v442 v447).trips, ∀ (k1_h81 : k1_cond81 i v442 v447 = 1#1), ∀ a, (k1_off644 i v442 v447 k1_t161) a + S1x16.size a ≤ S256x128.size a) ∧
  (∀ k1_t161 : Fin (k1_t161_loop i v442 v447).trips, ∀ (k1_h81 : k1_cond81 i v442 v447 = 1#1), ∀ a, (k1_off645 i v442 v447 k1_t161) a + S1x16.size a ≤ S256x128.size a) ∧
  (∀ k1_t161 : Fin (k1_t161_loop i v442 v447).trips, ∀ (k1_h81 : k1_cond81 i v442 v447 = 1#1), ∀ a, (k1_off646 i v442 v447 k1_t161) a + S1x16.size a ≤ S256x128.size a) ∧
  (∀ (k1_h81 : k1_cond81 i v442 v447 = 1#1), (k1_t162_loop i v442 v447).OK) ∧
  (∀ k1_t162 : Fin (k1_t162_loop i v442 v447).trips, ∀ (k1_h81 : k1_cond81 i v442 v447 = 1#1), ∀ a, (k1_off647 i v442 v447 k1_t162) a + S1x16.size a ≤ S256x128.size a) ∧
  (∀ k1_t162 : Fin (k1_t162_loop i v442 v447).trips, ∀ (k1_h81 : k1_cond81 i v442 v447 = 1#1), ∀ a, (k1_off648 i v442 v447 k1_t162) a + S1x16.size a ≤ S256x128.size a) ∧
  (∀ k1_t162 : Fin (k1_t162_loop i v442 v447).trips, ∀ (k1_h81 : k1_cond81 i v442 v447 = 1#1), ∀ a, (k1_off649 i v442 v447 k1_t162) a + S1x16.size a ≤ S256x128.size a) ∧
  (∀ k1_t162 : Fin (k1_t162_loop i v442 v447).trips, ∀ (k1_h81 : k1_cond81 i v442 v447 = 1#1), ∀ a, (k1_off650 i v442 v447 k1_t162) a + S1x16.size a ≤ S256x128.size a) ∧
  (∀ (k1_h113 : k1_cond113 i v442 v447 = 1#1), (k1_t225_loop i v442 v447).OK) ∧
  (∀ k1_t225 : Fin (k1_t225_loop i v442 v447).trips, ∀ (k1_h113 : k1_cond113 i v442 v447 = 1#1), ∀ a, (k1_off899 i v442 v447 k1_t225) a + S1x16.size a ≤ S256x128.size a)
def k1_chk17_1 (i : grid1.Coords) (v442 : BitVec 32) (v447 : BitVec 32) : Prop :=
  (∀ k1_t225 : Fin (k1_t225_loop i v442 v447).trips, ∀ (k1_h113 : k1_cond113 i v442 v447 = 1#1), ∀ a, (k1_off900 i v442 v447 k1_t225) a + S1x16.size a ≤ S256x128.size a) ∧
  (∀ k1_t225 : Fin (k1_t225_loop i v442 v447).trips, ∀ (k1_h113 : k1_cond113 i v442 v447 = 1#1), ∀ a, (k1_off901 i v442 v447 k1_t225) a + S1x16.size a ≤ S256x128.size a) ∧
  (∀ k1_t225 : Fin (k1_t225_loop i v442 v447).trips, ∀ (k1_h113 : k1_cond113 i v442 v447 = 1#1), ∀ a, (k1_off902 i v442 v447 k1_t225) a + S1x16.size a ≤ S256x128.size a) ∧
  (∀ (k1_h113 : k1_cond113 i v442 v447 = 1#1), (k1_t226_loop i v442 v447).OK) ∧
  (∀ k1_t226 : Fin (k1_t226_loop i v442 v447).trips, ∀ (k1_h113 : k1_cond113 i v442 v447 = 1#1), ∀ a, (k1_off903 i v442 v447 k1_t226) a + S1x16.size a ≤ S256x128.size a) ∧
  (∀ k1_t226 : Fin (k1_t226_loop i v442 v447).trips, ∀ (k1_h113 : k1_cond113 i v442 v447 = 1#1), ∀ a, (k1_off904 i v442 v447 k1_t226) a + S1x16.size a ≤ S256x128.size a) ∧
  (∀ k1_t226 : Fin (k1_t226_loop i v442 v447).trips, ∀ (k1_h113 : k1_cond113 i v442 v447 = 1#1), ∀ a, (k1_off905 i v442 v447 k1_t226) a + S1x16.size a ≤ S256x128.size a) ∧
  (∀ k1_t226 : Fin (k1_t226_loop i v442 v447).trips, ∀ (k1_h113 : k1_cond113 i v442 v447 = 1#1), ∀ a, (k1_off906 i v442 v447 k1_t226) a + S1x16.size a ≤ S256x128.size a)
def k1_chk17 (i : grid1.Coords) (v442 : BitVec 32) (v447 : BitVec 32) : Prop :=
  k1_chk17_0 i v442 v447 ∧
  k1_chk17_1 i v442 v447
theorem k1_t33_ok : ∀ (i : grid1.Coords) (v442 : BitVec 32) (v447 : BitVec 32) (k1_hw17 : k1_chk17 i v442 v447), ∀ (k1_h17 : k1_cond17 i v442 v447 = 1#1), (k1_t33_loop i v442 v447).OK := fun i v442 v447 k1_hw17 k1_h17 => k1_hw17.1.1 k1_h17
theorem k1_off130_inb : ∀ (i : grid1.Coords) (v442 : BitVec 32) (v447 : BitVec 32) (k1_hw17 : k1_chk17 i v442 v447) (k1_t33 : Fin (k1_t33_loop i v442 v447).trips), ∀ (k1_h17 : k1_cond17 i v442 v447 = 1#1), ∀ a, (k1_off130 i v442 v447 k1_t33) a + S1x16.size a ≤ S256x128.size a := fun i v442 v447 k1_hw17 k1_t33 k1_h17 => k1_hw17.1.2.1 k1_t33 k1_h17
theorem k1_off131_inb : ∀ (i : grid1.Coords) (v442 : BitVec 32) (v447 : BitVec 32) (k1_hw17 : k1_chk17 i v442 v447) (k1_t33 : Fin (k1_t33_loop i v442 v447).trips), ∀ (k1_h17 : k1_cond17 i v442 v447 = 1#1), ∀ a, (k1_off131 i v442 v447 k1_t33) a + S1x16.size a ≤ S256x128.size a := fun i v442 v447 k1_hw17 k1_t33 k1_h17 => k1_hw17.1.2.2.1 k1_t33 k1_h17
theorem k1_off132_inb : ∀ (i : grid1.Coords) (v442 : BitVec 32) (v447 : BitVec 32) (k1_hw17 : k1_chk17 i v442 v447) (k1_t33 : Fin (k1_t33_loop i v442 v447).trips), ∀ (k1_h17 : k1_cond17 i v442 v447 = 1#1), ∀ a, (k1_off132 i v442 v447 k1_t33) a + S1x16.size a ≤ S256x128.size a := fun i v442 v447 k1_hw17 k1_t33 k1_h17 => k1_hw17.1.2.2.2.1 k1_t33 k1_h17
theorem k1_off133_inb : ∀ (i : grid1.Coords) (v442 : BitVec 32) (v447 : BitVec 32) (k1_hw17 : k1_chk17 i v442 v447) (k1_t33 : Fin (k1_t33_loop i v442 v447).trips), ∀ (k1_h17 : k1_cond17 i v442 v447 = 1#1), ∀ a, (k1_off133 i v442 v447 k1_t33) a + S1x16.size a ≤ S256x128.size a := fun i v442 v447 k1_hw17 k1_t33 k1_h17 => k1_hw17.1.2.2.2.2.1 k1_t33 k1_h17
theorem k1_t34_ok : ∀ (i : grid1.Coords) (v442 : BitVec 32) (v447 : BitVec 32) (k1_hw17 : k1_chk17 i v442 v447), ∀ (k1_h17 : k1_cond17 i v442 v447 = 1#1), (k1_t34_loop i v442 v447).OK := fun i v442 v447 k1_hw17 k1_h17 => k1_hw17.1.2.2.2.2.2.1 k1_h17
theorem k1_off134_inb : ∀ (i : grid1.Coords) (v442 : BitVec 32) (v447 : BitVec 32) (k1_hw17 : k1_chk17 i v442 v447) (k1_t34 : Fin (k1_t34_loop i v442 v447).trips), ∀ (k1_h17 : k1_cond17 i v442 v447 = 1#1), ∀ a, (k1_off134 i v442 v447 k1_t34) a + S1x16.size a ≤ S256x128.size a := fun i v442 v447 k1_hw17 k1_t34 k1_h17 => k1_hw17.1.2.2.2.2.2.2.1 k1_t34 k1_h17
theorem k1_off135_inb : ∀ (i : grid1.Coords) (v442 : BitVec 32) (v447 : BitVec 32) (k1_hw17 : k1_chk17 i v442 v447) (k1_t34 : Fin (k1_t34_loop i v442 v447).trips), ∀ (k1_h17 : k1_cond17 i v442 v447 = 1#1), ∀ a, (k1_off135 i v442 v447 k1_t34) a + S1x16.size a ≤ S256x128.size a := fun i v442 v447 k1_hw17 k1_t34 k1_h17 => k1_hw17.1.2.2.2.2.2.2.2.1 k1_t34 k1_h17
theorem k1_off136_inb : ∀ (i : grid1.Coords) (v442 : BitVec 32) (v447 : BitVec 32) (k1_hw17 : k1_chk17 i v442 v447) (k1_t34 : Fin (k1_t34_loop i v442 v447).trips), ∀ (k1_h17 : k1_cond17 i v442 v447 = 1#1), ∀ a, (k1_off136 i v442 v447 k1_t34) a + S1x16.size a ≤ S256x128.size a := fun i v442 v447 k1_hw17 k1_t34 k1_h17 => k1_hw17.1.2.2.2.2.2.2.2.2.1 k1_t34 k1_h17
theorem k1_off137_inb : ∀ (i : grid1.Coords) (v442 : BitVec 32) (v447 : BitVec 32) (k1_hw17 : k1_chk17 i v442 v447) (k1_t34 : Fin (k1_t34_loop i v442 v447).trips), ∀ (k1_h17 : k1_cond17 i v442 v447 = 1#1), ∀ a, (k1_off137 i v442 v447 k1_t34) a + S1x16.size a ≤ S256x128.size a := fun i v442 v447 k1_hw17 k1_t34 k1_h17 => k1_hw17.1.2.2.2.2.2.2.2.2.2.1 k1_t34 k1_h17
theorem k1_t97_ok : ∀ (i : grid1.Coords) (v442 : BitVec 32) (v447 : BitVec 32) (k1_hw17 : k1_chk17 i v442 v447), ∀ (k1_h49 : k1_cond49 i v442 v447 = 1#1), (k1_t97_loop i v442 v447).OK := fun i v442 v447 k1_hw17 k1_h49 => k1_hw17.1.2.2.2.2.2.2.2.2.2.2.1 k1_h49
theorem k1_off387_inb : ∀ (i : grid1.Coords) (v442 : BitVec 32) (v447 : BitVec 32) (k1_hw17 : k1_chk17 i v442 v447) (k1_t97 : Fin (k1_t97_loop i v442 v447).trips), ∀ (k1_h49 : k1_cond49 i v442 v447 = 1#1), ∀ a, (k1_off387 i v442 v447 k1_t97) a + S1x16.size a ≤ S256x128.size a := fun i v442 v447 k1_hw17 k1_t97 k1_h49 => k1_hw17.1.2.2.2.2.2.2.2.2.2.2.2.1 k1_t97 k1_h49
theorem k1_off388_inb : ∀ (i : grid1.Coords) (v442 : BitVec 32) (v447 : BitVec 32) (k1_hw17 : k1_chk17 i v442 v447) (k1_t97 : Fin (k1_t97_loop i v442 v447).trips), ∀ (k1_h49 : k1_cond49 i v442 v447 = 1#1), ∀ a, (k1_off388 i v442 v447 k1_t97) a + S1x16.size a ≤ S256x128.size a := fun i v442 v447 k1_hw17 k1_t97 k1_h49 => k1_hw17.1.2.2.2.2.2.2.2.2.2.2.2.2.1 k1_t97 k1_h49
theorem k1_off389_inb : ∀ (i : grid1.Coords) (v442 : BitVec 32) (v447 : BitVec 32) (k1_hw17 : k1_chk17 i v442 v447) (k1_t97 : Fin (k1_t97_loop i v442 v447).trips), ∀ (k1_h49 : k1_cond49 i v442 v447 = 1#1), ∀ a, (k1_off389 i v442 v447 k1_t97) a + S1x16.size a ≤ S256x128.size a := fun i v442 v447 k1_hw17 k1_t97 k1_h49 => k1_hw17.1.2.2.2.2.2.2.2.2.2.2.2.2.2.1 k1_t97 k1_h49
theorem k1_off390_inb : ∀ (i : grid1.Coords) (v442 : BitVec 32) (v447 : BitVec 32) (k1_hw17 : k1_chk17 i v442 v447) (k1_t97 : Fin (k1_t97_loop i v442 v447).trips), ∀ (k1_h49 : k1_cond49 i v442 v447 = 1#1), ∀ a, (k1_off390 i v442 v447 k1_t97) a + S1x16.size a ≤ S256x128.size a := fun i v442 v447 k1_hw17 k1_t97 k1_h49 => k1_hw17.1.2.2.2.2.2.2.2.2.2.2.2.2.2.2.1 k1_t97 k1_h49
theorem k1_t98_ok : ∀ (i : grid1.Coords) (v442 : BitVec 32) (v447 : BitVec 32) (k1_hw17 : k1_chk17 i v442 v447), ∀ (k1_h49 : k1_cond49 i v442 v447 = 1#1), (k1_t98_loop i v442 v447).OK := fun i v442 v447 k1_hw17 k1_h49 => k1_hw17.1.2.2.2.2.2.2.2.2.2.2.2.2.2.2.2.1 k1_h49
theorem k1_off391_inb : ∀ (i : grid1.Coords) (v442 : BitVec 32) (v447 : BitVec 32) (k1_hw17 : k1_chk17 i v442 v447) (k1_t98 : Fin (k1_t98_loop i v442 v447).trips), ∀ (k1_h49 : k1_cond49 i v442 v447 = 1#1), ∀ a, (k1_off391 i v442 v447 k1_t98) a + S1x16.size a ≤ S256x128.size a := fun i v442 v447 k1_hw17 k1_t98 k1_h49 => k1_hw17.1.2.2.2.2.2.2.2.2.2.2.2.2.2.2.2.2.1 k1_t98 k1_h49
theorem k1_off392_inb : ∀ (i : grid1.Coords) (v442 : BitVec 32) (v447 : BitVec 32) (k1_hw17 : k1_chk17 i v442 v447) (k1_t98 : Fin (k1_t98_loop i v442 v447).trips), ∀ (k1_h49 : k1_cond49 i v442 v447 = 1#1), ∀ a, (k1_off392 i v442 v447 k1_t98) a + S1x16.size a ≤ S256x128.size a := fun i v442 v447 k1_hw17 k1_t98 k1_h49 => k1_hw17.1.2.2.2.2.2.2.2.2.2.2.2.2.2.2.2.2.2.1 k1_t98 k1_h49
theorem k1_off393_inb : ∀ (i : grid1.Coords) (v442 : BitVec 32) (v447 : BitVec 32) (k1_hw17 : k1_chk17 i v442 v447) (k1_t98 : Fin (k1_t98_loop i v442 v447).trips), ∀ (k1_h49 : k1_cond49 i v442 v447 = 1#1), ∀ a, (k1_off393 i v442 v447 k1_t98) a + S1x16.size a ≤ S256x128.size a := fun i v442 v447 k1_hw17 k1_t98 k1_h49 => k1_hw17.1.2.2.2.2.2.2.2.2.2.2.2.2.2.2.2.2.2.2.1 k1_t98 k1_h49
theorem k1_off394_inb : ∀ (i : grid1.Coords) (v442 : BitVec 32) (v447 : BitVec 32) (k1_hw17 : k1_chk17 i v442 v447) (k1_t98 : Fin (k1_t98_loop i v442 v447).trips), ∀ (k1_h49 : k1_cond49 i v442 v447 = 1#1), ∀ a, (k1_off394 i v442 v447 k1_t98) a + S1x16.size a ≤ S256x128.size a := fun i v442 v447 k1_hw17 k1_t98 k1_h49 => k1_hw17.1.2.2.2.2.2.2.2.2.2.2.2.2.2.2.2.2.2.2.2.1 k1_t98 k1_h49
theorem k1_t161_ok : ∀ (i : grid1.Coords) (v442 : BitVec 32) (v447 : BitVec 32) (k1_hw17 : k1_chk17 i v442 v447), ∀ (k1_h81 : k1_cond81 i v442 v447 = 1#1), (k1_t161_loop i v442 v447).OK := fun i v442 v447 k1_hw17 k1_h81 => k1_hw17.1.2.2.2.2.2.2.2.2.2.2.2.2.2.2.2.2.2.2.2.2.1 k1_h81
theorem k1_off643_inb : ∀ (i : grid1.Coords) (v442 : BitVec 32) (v447 : BitVec 32) (k1_hw17 : k1_chk17 i v442 v447) (k1_t161 : Fin (k1_t161_loop i v442 v447).trips), ∀ (k1_h81 : k1_cond81 i v442 v447 = 1#1), ∀ a, (k1_off643 i v442 v447 k1_t161) a + S1x16.size a ≤ S256x128.size a := fun i v442 v447 k1_hw17 k1_t161 k1_h81 => k1_hw17.1.2.2.2.2.2.2.2.2.2.2.2.2.2.2.2.2.2.2.2.2.2.1 k1_t161 k1_h81
theorem k1_off644_inb : ∀ (i : grid1.Coords) (v442 : BitVec 32) (v447 : BitVec 32) (k1_hw17 : k1_chk17 i v442 v447) (k1_t161 : Fin (k1_t161_loop i v442 v447).trips), ∀ (k1_h81 : k1_cond81 i v442 v447 = 1#1), ∀ a, (k1_off644 i v442 v447 k1_t161) a + S1x16.size a ≤ S256x128.size a := fun i v442 v447 k1_hw17 k1_t161 k1_h81 => k1_hw17.1.2.2.2.2.2.2.2.2.2.2.2.2.2.2.2.2.2.2.2.2.2.2.1 k1_t161 k1_h81
theorem k1_off645_inb : ∀ (i : grid1.Coords) (v442 : BitVec 32) (v447 : BitVec 32) (k1_hw17 : k1_chk17 i v442 v447) (k1_t161 : Fin (k1_t161_loop i v442 v447).trips), ∀ (k1_h81 : k1_cond81 i v442 v447 = 1#1), ∀ a, (k1_off645 i v442 v447 k1_t161) a + S1x16.size a ≤ S256x128.size a := fun i v442 v447 k1_hw17 k1_t161 k1_h81 => k1_hw17.1.2.2.2.2.2.2.2.2.2.2.2.2.2.2.2.2.2.2.2.2.2.2.2.1 k1_t161 k1_h81
theorem k1_off646_inb : ∀ (i : grid1.Coords) (v442 : BitVec 32) (v447 : BitVec 32) (k1_hw17 : k1_chk17 i v442 v447) (k1_t161 : Fin (k1_t161_loop i v442 v447).trips), ∀ (k1_h81 : k1_cond81 i v442 v447 = 1#1), ∀ a, (k1_off646 i v442 v447 k1_t161) a + S1x16.size a ≤ S256x128.size a := fun i v442 v447 k1_hw17 k1_t161 k1_h81 => k1_hw17.1.2.2.2.2.2.2.2.2.2.2.2.2.2.2.2.2.2.2.2.2.2.2.2.2.1 k1_t161 k1_h81
theorem k1_t162_ok : ∀ (i : grid1.Coords) (v442 : BitVec 32) (v447 : BitVec 32) (k1_hw17 : k1_chk17 i v442 v447), ∀ (k1_h81 : k1_cond81 i v442 v447 = 1#1), (k1_t162_loop i v442 v447).OK := fun i v442 v447 k1_hw17 k1_h81 => k1_hw17.1.2.2.2.2.2.2.2.2.2.2.2.2.2.2.2.2.2.2.2.2.2.2.2.2.2.1 k1_h81
theorem k1_off647_inb : ∀ (i : grid1.Coords) (v442 : BitVec 32) (v447 : BitVec 32) (k1_hw17 : k1_chk17 i v442 v447) (k1_t162 : Fin (k1_t162_loop i v442 v447).trips), ∀ (k1_h81 : k1_cond81 i v442 v447 = 1#1), ∀ a, (k1_off647 i v442 v447 k1_t162) a + S1x16.size a ≤ S256x128.size a := fun i v442 v447 k1_hw17 k1_t162 k1_h81 => k1_hw17.1.2.2.2.2.2.2.2.2.2.2.2.2.2.2.2.2.2.2.2.2.2.2.2.2.2.2.1 k1_t162 k1_h81
theorem k1_off648_inb : ∀ (i : grid1.Coords) (v442 : BitVec 32) (v447 : BitVec 32) (k1_hw17 : k1_chk17 i v442 v447) (k1_t162 : Fin (k1_t162_loop i v442 v447).trips), ∀ (k1_h81 : k1_cond81 i v442 v447 = 1#1), ∀ a, (k1_off648 i v442 v447 k1_t162) a + S1x16.size a ≤ S256x128.size a := fun i v442 v447 k1_hw17 k1_t162 k1_h81 => k1_hw17.1.2.2.2.2.2.2.2.2.2.2.2.2.2.2.2.2.2.2.2.2.2.2.2.2.2.2.2.1 k1_t162 k1_h81
theorem k1_off649_inb : ∀ (i : grid1.Coords) (v442 : BitVec 32) (v447 : BitVec 32) (k1_hw17 : k1_chk17 i v442 v447) (k1_t162 : Fin (k1_t162_loop i v442 v447).trips), ∀ (k1_h81 : k1_cond81 i v442 v447 = 1#1), ∀ a, (k1_off649 i v442 v447 k1_t162) a + S1x16.size a ≤ S256x128.size a := fun i v442 v447 k1_hw17 k1_t162 k1_h81 => k1_hw17.1.2.2.2.2.2.2.2.2.2.2.2.2.2.2.2.2.2.2.2.2.2.2.2.2.2.2.2.2.1 k1_t162 k1_h81
theorem k1_off650_inb : ∀ (i : grid1.Coords) (v442 : BitVec 32) (v447 : BitVec 32) (k1_hw17 : k1_chk17 i v442 v447) (k1_t162 : Fin (k1_t162_loop i v442 v447).trips), ∀ (k1_h81 : k1_cond81 i v442 v447 = 1#1), ∀ a, (k1_off650 i v442 v447 k1_t162) a + S1x16.size a ≤ S256x128.size a := fun i v442 v447 k1_hw17 k1_t162 k1_h81 => k1_hw17.1.2.2.2.2.2.2.2.2.2.2.2.2.2.2.2.2.2.2.2.2.2.2.2.2.2.2.2.2.2.1 k1_t162 k1_h81
theorem k1_t225_ok : ∀ (i : grid1.Coords) (v442 : BitVec 32) (v447 : BitVec 32) (k1_hw17 : k1_chk17 i v442 v447), ∀ (k1_h113 : k1_cond113 i v442 v447 = 1#1), (k1_t225_loop i v442 v447).OK := fun i v442 v447 k1_hw17 k1_h113 => k1_hw17.1.2.2.2.2.2.2.2.2.2.2.2.2.2.2.2.2.2.2.2.2.2.2.2.2.2.2.2.2.2.2.1 k1_h113
theorem k1_off899_inb : ∀ (i : grid1.Coords) (v442 : BitVec 32) (v447 : BitVec 32) (k1_hw17 : k1_chk17 i v442 v447) (k1_t225 : Fin (k1_t225_loop i v442 v447).trips), ∀ (k1_h113 : k1_cond113 i v442 v447 = 1#1), ∀ a, (k1_off899 i v442 v447 k1_t225) a + S1x16.size a ≤ S256x128.size a := fun i v442 v447 k1_hw17 k1_t225 k1_h113 => k1_hw17.1.2.2.2.2.2.2.2.2.2.2.2.2.2.2.2.2.2.2.2.2.2.2.2.2.2.2.2.2.2.2.2 k1_t225 k1_h113
theorem k1_off900_inb : ∀ (i : grid1.Coords) (v442 : BitVec 32) (v447 : BitVec 32) (k1_hw17 : k1_chk17 i v442 v447) (k1_t225 : Fin (k1_t225_loop i v442 v447).trips), ∀ (k1_h113 : k1_cond113 i v442 v447 = 1#1), ∀ a, (k1_off900 i v442 v447 k1_t225) a + S1x16.size a ≤ S256x128.size a := fun i v442 v447 k1_hw17 k1_t225 k1_h113 => k1_hw17.2.1 k1_t225 k1_h113
theorem k1_off901_inb : ∀ (i : grid1.Coords) (v442 : BitVec 32) (v447 : BitVec 32) (k1_hw17 : k1_chk17 i v442 v447) (k1_t225 : Fin (k1_t225_loop i v442 v447).trips), ∀ (k1_h113 : k1_cond113 i v442 v447 = 1#1), ∀ a, (k1_off901 i v442 v447 k1_t225) a + S1x16.size a ≤ S256x128.size a := fun i v442 v447 k1_hw17 k1_t225 k1_h113 => k1_hw17.2.2.1 k1_t225 k1_h113
theorem k1_off902_inb : ∀ (i : grid1.Coords) (v442 : BitVec 32) (v447 : BitVec 32) (k1_hw17 : k1_chk17 i v442 v447) (k1_t225 : Fin (k1_t225_loop i v442 v447).trips), ∀ (k1_h113 : k1_cond113 i v442 v447 = 1#1), ∀ a, (k1_off902 i v442 v447 k1_t225) a + S1x16.size a ≤ S256x128.size a := fun i v442 v447 k1_hw17 k1_t225 k1_h113 => k1_hw17.2.2.2.1 k1_t225 k1_h113
theorem k1_t226_ok : ∀ (i : grid1.Coords) (v442 : BitVec 32) (v447 : BitVec 32) (k1_hw17 : k1_chk17 i v442 v447), ∀ (k1_h113 : k1_cond113 i v442 v447 = 1#1), (k1_t226_loop i v442 v447).OK := fun i v442 v447 k1_hw17 k1_h113 => k1_hw17.2.2.2.2.1 k1_h113
theorem k1_off903_inb : ∀ (i : grid1.Coords) (v442 : BitVec 32) (v447 : BitVec 32) (k1_hw17 : k1_chk17 i v442 v447) (k1_t226 : Fin (k1_t226_loop i v442 v447).trips), ∀ (k1_h113 : k1_cond113 i v442 v447 = 1#1), ∀ a, (k1_off903 i v442 v447 k1_t226) a + S1x16.size a ≤ S256x128.size a := fun i v442 v447 k1_hw17 k1_t226 k1_h113 => k1_hw17.2.2.2.2.2.1 k1_t226 k1_h113
theorem k1_off904_inb : ∀ (i : grid1.Coords) (v442 : BitVec 32) (v447 : BitVec 32) (k1_hw17 : k1_chk17 i v442 v447) (k1_t226 : Fin (k1_t226_loop i v442 v447).trips), ∀ (k1_h113 : k1_cond113 i v442 v447 = 1#1), ∀ a, (k1_off904 i v442 v447 k1_t226) a + S1x16.size a ≤ S256x128.size a := fun i v442 v447 k1_hw17 k1_t226 k1_h113 => k1_hw17.2.2.2.2.2.2.1 k1_t226 k1_h113
theorem k1_off905_inb : ∀ (i : grid1.Coords) (v442 : BitVec 32) (v447 : BitVec 32) (k1_hw17 : k1_chk17 i v442 v447) (k1_t226 : Fin (k1_t226_loop i v442 v447).trips), ∀ (k1_h113 : k1_cond113 i v442 v447 = 1#1), ∀ a, (k1_off905 i v442 v447 k1_t226) a + S1x16.size a ≤ S256x128.size a := fun i v442 v447 k1_hw17 k1_t226 k1_h113 => k1_hw17.2.2.2.2.2.2.2.1 k1_t226 k1_h113
theorem k1_off906_inb : ∀ (i : grid1.Coords) (v442 : BitVec 32) (v447 : BitVec 32) (k1_hw17 : k1_chk17 i v442 v447) (k1_t226 : Fin (k1_t226_loop i v442 v447).trips), ∀ (k1_h113 : k1_cond113 i v442 v447 = 1#1), ∀ a, (k1_off906 i v442 v447 k1_t226) a + S1x16.size a ≤ S256x128.size a := fun i v442 v447 k1_hw17 k1_t226 k1_h113 => k1_hw17.2.2.2.2.2.2.2.2 k1_t226 k1_h113

@[reducible] def k1_t227_loop (i : grid1.Coords) (v452 : BitVec 32) (v458 : BitVec 32) : Scf.Loop 32 :=
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let c256_i32_1088 : BitVec 32 := 256#32
  let c0_i32_1087 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c768_i32_1086 : BitVec 32 := 768#32
  let v1661 : BitVec 32 := Scalar.subi v462 c768_i32_1086
  let v1662 : BitVec 32 := Scalar.maxsi c0_i32_1087 v1661
  let v1663 : BitVec 32 := Scalar.minsi c256_i32_1088 v1662
  let v1805 : BitVec 32 := Scalar.subi v1663 v1660
  let c1_i32_1196 : BitVec 32 := 1#32
  let v1807 : BitVec 32 := Scalar.divsi v1805 c1_i32_1196
  let v1808 : BitVec 32 := Scalar.muli v1807 c1_i32_1196
  let v1809 : BitVec 32 := Scalar.addi v1660 v1808
  let c1_i32_1197 : BitVec 32 := 1#32
  ⟨v1660, v1809, c1_i32_1197⟩
def k1_cond114 (i : grid1.Coords) (v452 : BitVec 32) (v458 : BitVec 32) : BitVec 1 :=
  let c256_i32_1088 : BitVec 32 := 256#32
  let c0_i32_1087 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v460 : BitVec 32 := Scalar.subi v459 v3
  let v461 : BitVec 32 := Scalar.maxsi c0_i32_199 v460
  let v462 : BitVec 32 := Scalar.minsi c1024_i32_200 v461
  let c768_i32_1086 : BitVec 32 := 768#32
  let v1661 : BitVec 32 := Scalar.subi v462 c768_i32_1086
  let v1662 : BitVec 32 := Scalar.maxsi c0_i32_1087 v1661
  let v1663 : BitVec 32 := Scalar.minsi c256_i32_1088 v1662
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let v1664 : BitVec 1 := Scalar.cmpi .sgt v1663 v1660
  let v1665 : BitVec 32 := Scalar.extui v1664
  let c0_i32_1089 : BitVec 32 := 0#32
  let v1666 : BitVec 1 := Scalar.cmpi .ne v1665 c0_i32_1089
  v1666

def k1_off907 (i : grid1.Coords) (v452 : BitVec 32) (v458 : BitVec 32) (k1_t227 : Fin (k1_t227_loop i v452 v458).trips) : Fin 2 → Nat :=
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let c1_i32_1197 : BitVec 32 := 1#32
  let arg13 : BitVec 32 := Scf.iv v1660 c1_i32_1197 k1_t227
  let v1828 : Index := Scalar.indexCast arg13
  let c64 : Index := 64#32
  ![v1828.toNat, 64]
def k1_off908 (i : grid1.Coords) (v452 : BitVec 32) (v458 : BitVec 32) (k1_t227 : Fin (k1_t227_loop i v452 v458).trips) : Fin 2 → Nat :=
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let c1_i32_1197 : BitVec 32 := 1#32
  let arg13 : BitVec 32 := Scf.iv v1660 c1_i32_1197 k1_t227
  let v1832 : Index := Scalar.indexCast arg13
  let c80 : Index := 80#32
  ![v1832.toNat, 80]
def k1_off909 (i : grid1.Coords) (v452 : BitVec 32) (v458 : BitVec 32) (k1_t227 : Fin (k1_t227_loop i v452 v458).trips) : Fin 2 → Nat :=
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let c1_i32_1197 : BitVec 32 := 1#32
  let arg13 : BitVec 32 := Scf.iv v1660 c1_i32_1197 k1_t227
  let v1836 : Index := Scalar.indexCast arg13
  let c96 : Index := 96#32
  ![v1836.toNat, 96]
def k1_off910 (i : grid1.Coords) (v452 : BitVec 32) (v458 : BitVec 32) (k1_t227 : Fin (k1_t227_loop i v452 v458).trips) : Fin 2 → Nat :=
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let c1_i32_1197 : BitVec 32 := 1#32
  let arg13 : BitVec 32 := Scf.iv v1660 c1_i32_1197 k1_t227
  let v1840 : Index := Scalar.indexCast arg13
  let c112 : Index := 112#32
  ![v1840.toNat, 112]
@[reducible] def k1_t228_loop (i : grid1.Coords) (v452 : BitVec 32) (v458 : BitVec 32) : Scf.Loop 32 :=
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let c256_i32_1088 : BitVec 32 := 256#32
  let c0_i32_1087 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c768_i32_1086 : BitVec 32 := 768#32
  let v1661 : BitVec 32 := Scalar.subi v462 c768_i32_1086
  let v1662 : BitVec 32 := Scalar.maxsi c0_i32_1087 v1661
  let v1663 : BitVec 32 := Scalar.minsi c256_i32_1088 v1662
  let v1805 : BitVec 32 := Scalar.subi v1663 v1660
  let c1_i32_1196 : BitVec 32 := 1#32
  let v1807 : BitVec 32 := Scalar.divsi v1805 c1_i32_1196
  let v1808 : BitVec 32 := Scalar.muli v1807 c1_i32_1196
  let v1809 : BitVec 32 := Scalar.addi v1660 v1808
  let v1806 : BitVec 32 := Scalar.addi v1660 v1805
  let c1_i32_1198 : BitVec 32 := 1#32
  ⟨v1809, v1806, c1_i32_1198⟩
def k1_off911 (i : grid1.Coords) (v452 : BitVec 32) (v458 : BitVec 32) (k1_t228 : Fin (k1_t228_loop i v452 v458).trips) : Fin 2 → Nat :=
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let c256_i32_1088 : BitVec 32 := 256#32
  let c0_i32_1087 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c768_i32_1086 : BitVec 32 := 768#32
  let v1661 : BitVec 32 := Scalar.subi v462 c768_i32_1086
  let v1662 : BitVec 32 := Scalar.maxsi c0_i32_1087 v1661
  let v1663 : BitVec 32 := Scalar.minsi c256_i32_1088 v1662
  let v1805 : BitVec 32 := Scalar.subi v1663 v1660
  let c1_i32_1196 : BitVec 32 := 1#32
  let v1807 : BitVec 32 := Scalar.divsi v1805 c1_i32_1196
  let v1808 : BitVec 32 := Scalar.muli v1807 c1_i32_1196
  let v1809 : BitVec 32 := Scalar.addi v1660 v1808
  let c1_i32_1198 : BitVec 32 := 1#32
  let arg13 : BitVec 32 := Scf.iv v1809 c1_i32_1198 k1_t228
  let v1828 : Index := Scalar.indexCast arg13
  let c64 : Index := 64#32
  ![v1828.toNat, 64]
def k1_off912 (i : grid1.Coords) (v452 : BitVec 32) (v458 : BitVec 32) (k1_t228 : Fin (k1_t228_loop i v452 v458).trips) : Fin 2 → Nat :=
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let c256_i32_1088 : BitVec 32 := 256#32
  let c0_i32_1087 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c768_i32_1086 : BitVec 32 := 768#32
  let v1661 : BitVec 32 := Scalar.subi v462 c768_i32_1086
  let v1662 : BitVec 32 := Scalar.maxsi c0_i32_1087 v1661
  let v1663 : BitVec 32 := Scalar.minsi c256_i32_1088 v1662
  let v1805 : BitVec 32 := Scalar.subi v1663 v1660
  let c1_i32_1196 : BitVec 32 := 1#32
  let v1807 : BitVec 32 := Scalar.divsi v1805 c1_i32_1196
  let v1808 : BitVec 32 := Scalar.muli v1807 c1_i32_1196
  let v1809 : BitVec 32 := Scalar.addi v1660 v1808
  let c1_i32_1198 : BitVec 32 := 1#32
  let arg13 : BitVec 32 := Scf.iv v1809 c1_i32_1198 k1_t228
  let v1832 : Index := Scalar.indexCast arg13
  let c80 : Index := 80#32
  ![v1832.toNat, 80]
def k1_off913 (i : grid1.Coords) (v452 : BitVec 32) (v458 : BitVec 32) (k1_t228 : Fin (k1_t228_loop i v452 v458).trips) : Fin 2 → Nat :=
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let c256_i32_1088 : BitVec 32 := 256#32
  let c0_i32_1087 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c768_i32_1086 : BitVec 32 := 768#32
  let v1661 : BitVec 32 := Scalar.subi v462 c768_i32_1086
  let v1662 : BitVec 32 := Scalar.maxsi c0_i32_1087 v1661
  let v1663 : BitVec 32 := Scalar.minsi c256_i32_1088 v1662
  let v1805 : BitVec 32 := Scalar.subi v1663 v1660
  let c1_i32_1196 : BitVec 32 := 1#32
  let v1807 : BitVec 32 := Scalar.divsi v1805 c1_i32_1196
  let v1808 : BitVec 32 := Scalar.muli v1807 c1_i32_1196
  let v1809 : BitVec 32 := Scalar.addi v1660 v1808
  let c1_i32_1198 : BitVec 32 := 1#32
  let arg13 : BitVec 32 := Scf.iv v1809 c1_i32_1198 k1_t228
  let v1836 : Index := Scalar.indexCast arg13
  let c96 : Index := 96#32
  ![v1836.toNat, 96]
def k1_off914 (i : grid1.Coords) (v452 : BitVec 32) (v458 : BitVec 32) (k1_t228 : Fin (k1_t228_loop i v452 v458).trips) : Fin 2 → Nat :=
  let c256_i32_1085 : BitVec 32 := 256#32
  let c0_i32_1084 : BitVec 32 := 0#32
  let c1024_i32_197 : BitVec 32 := 1024#32
  let c0_i32_196 : BitVec 32 := 0#32
  let c65536_i32_195 : BitVec 32 := 65536#32
  let v453 : BitVec 32 := Scalar.subi v452 c65536_i32_195
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v454 : BitVec 32 := Scalar.subi v453 v3
  let v455 : BitVec 32 := Scalar.maxsi c0_i32_196 v454
  let v456 : BitVec 32 := Scalar.minsi c1024_i32_197 v455
  let c768_i32_1083 : BitVec 32 := 768#32
  let v1658 : BitVec 32 := Scalar.subi v456 c768_i32_1083
  let v1659 : BitVec 32 := Scalar.maxsi c0_i32_1084 v1658
  let v1660 : BitVec 32 := Scalar.minsi c256_i32_1085 v1659
  let c256_i32_1088 : BitVec 32 := 256#32
  let c0_i32_1087 : BitVec 32 := 0#32
  let c1024_i32_200 : BitVec 32 := 1024#32
  let c0_i32_199 : BitVec 32 := 0#32
  let c65536_i32_198 : BitVec 32 := 65536#32
  let v459 : BitVec 32 := Scalar.subi v458 c65536_i32_198
  let v460 : BitVec 32 := Scalar.subi v459 v3
  let v461 : BitVec 32 := Scalar.maxsi c0_i32_199 v460
  let v462 : BitVec 32 := Scalar.minsi c1024_i32_200 v461
  let c768_i32_1086 : BitVec 32 := 768#32
  let v1661 : BitVec 32 := Scalar.subi v462 c768_i32_1086
  let v1662 : BitVec 32 := Scalar.maxsi c0_i32_1087 v1661
  let v1663 : BitVec 32 := Scalar.minsi c256_i32_1088 v1662
  let v1805 : BitVec 32 := Scalar.subi v1663 v1660
  let c1_i32_1196 : BitVec 32 := 1#32
  let v1807 : BitVec 32 := Scalar.divsi v1805 c1_i32_1196
  let v1808 : BitVec 32 := Scalar.muli v1807 c1_i32_1196
  let v1809 : BitVec 32 := Scalar.addi v1660 v1808
  let c1_i32_1198 : BitVec 32 := 1#32
  let arg13 : BitVec 32 := Scf.iv v1809 c1_i32_1198 k1_t228
  let v1840 : Index := Scalar.indexCast arg13
  let c112 : Index := 112#32
  ![v1840.toNat, 112]

def k1_chk18_0 (i : grid1.Coords) (v452 : BitVec 32) (v458 : BitVec 32) : Prop :=
  (∀ (k1_h18 : k1_cond18 i v452 v458 = 1#1), (k1_t35_loop i v452 v458).OK) ∧
  (∀ k1_t35 : Fin (k1_t35_loop i v452 v458).trips, ∀ (k1_h18 : k1_cond18 i v452 v458 = 1#1), ∀ a, (k1_off138 i v452 v458 k1_t35) a + S1x16.size a ≤ S256x128.size a) ∧
  (∀ k1_t35 : Fin (k1_t35_loop i v452 v458).trips, ∀ (k1_h18 : k1_cond18 i v452 v458 = 1#1), ∀ a, (k1_off139 i v452 v458 k1_t35) a + S1x16.size a ≤ S256x128.size a) ∧
  (∀ k1_t35 : Fin (k1_t35_loop i v452 v458).trips, ∀ (k1_h18 : k1_cond18 i v452 v458 = 1#1), ∀ a, (k1_off140 i v452 v458 k1_t35) a + S1x16.size a ≤ S256x128.size a) ∧
  (∀ k1_t35 : Fin (k1_t35_loop i v452 v458).trips, ∀ (k1_h18 : k1_cond18 i v452 v458 = 1#1), ∀ a, (k1_off141 i v452 v458 k1_t35) a + S1x16.size a ≤ S256x128.size a) ∧
  (∀ (k1_h18 : k1_cond18 i v452 v458 = 1#1), (k1_t36_loop i v452 v458).OK) ∧
  (∀ k1_t36 : Fin (k1_t36_loop i v452 v458).trips, ∀ (k1_h18 : k1_cond18 i v452 v458 = 1#1), ∀ a, (k1_off142 i v452 v458 k1_t36) a + S1x16.size a ≤ S256x128.size a) ∧
  (∀ k1_t36 : Fin (k1_t36_loop i v452 v458).trips, ∀ (k1_h18 : k1_cond18 i v452 v458 = 1#1), ∀ a, (k1_off143 i v452 v458 k1_t36) a + S1x16.size a ≤ S256x128.size a) ∧
  (∀ k1_t36 : Fin (k1_t36_loop i v452 v458).trips, ∀ (k1_h18 : k1_cond18 i v452 v458 = 1#1), ∀ a, (k1_off144 i v452 v458 k1_t36) a + S1x16.size a ≤ S256x128.size a) ∧
  (∀ k1_t36 : Fin (k1_t36_loop i v452 v458).trips, ∀ (k1_h18 : k1_cond18 i v452 v458 = 1#1), ∀ a, (k1_off145 i v452 v458 k1_t36) a + S1x16.size a ≤ S256x128.size a) ∧
  (∀ (k1_h50 : k1_cond50 i v452 v458 = 1#1), (k1_t99_loop i v452 v458).OK) ∧
  (∀ k1_t99 : Fin (k1_t99_loop i v452 v458).trips, ∀ (k1_h50 : k1_cond50 i v452 v458 = 1#1), ∀ a, (k1_off395 i v452 v458 k1_t99) a + S1x16.size a ≤ S256x128.size a) ∧
  (∀ k1_t99 : Fin (k1_t99_loop i v452 v458).trips, ∀ (k1_h50 : k1_cond50 i v452 v458 = 1#1), ∀ a, (k1_off396 i v452 v458 k1_t99) a + S1x16.size a ≤ S256x128.size a) ∧
  (∀ k1_t99 : Fin (k1_t99_loop i v452 v458).trips, ∀ (k1_h50 : k1_cond50 i v452 v458 = 1#1), ∀ a, (k1_off397 i v452 v458 k1_t99) a + S1x16.size a ≤ S256x128.size a) ∧
  (∀ k1_t99 : Fin (k1_t99_loop i v452 v458).trips, ∀ (k1_h50 : k1_cond50 i v452 v458 = 1#1), ∀ a, (k1_off398 i v452 v458 k1_t99) a + S1x16.size a ≤ S256x128.size a) ∧
  (∀ (k1_h50 : k1_cond50 i v452 v458 = 1#1), (k1_t100_loop i v452 v458).OK) ∧
  (∀ k1_t100 : Fin (k1_t100_loop i v452 v458).trips, ∀ (k1_h50 : k1_cond50 i v452 v458 = 1#1), ∀ a, (k1_off399 i v452 v458 k1_t100) a + S1x16.size a ≤ S256x128.size a) ∧
  (∀ k1_t100 : Fin (k1_t100_loop i v452 v458).trips, ∀ (k1_h50 : k1_cond50 i v452 v458 = 1#1), ∀ a, (k1_off400 i v452 v458 k1_t100) a + S1x16.size a ≤ S256x128.size a) ∧
  (∀ k1_t100 : Fin (k1_t100_loop i v452 v458).trips, ∀ (k1_h50 : k1_cond50 i v452 v458 = 1#1), ∀ a, (k1_off401 i v452 v458 k1_t100) a + S1x16.size a ≤ S256x128.size a) ∧
  (∀ k1_t100 : Fin (k1_t100_loop i v452 v458).trips, ∀ (k1_h50 : k1_cond50 i v452 v458 = 1#1), ∀ a, (k1_off402 i v452 v458 k1_t100) a + S1x16.size a ≤ S256x128.size a) ∧
  (∀ (k1_h82 : k1_cond82 i v452 v458 = 1#1), (k1_t163_loop i v452 v458).OK) ∧
  (∀ k1_t163 : Fin (k1_t163_loop i v452 v458).trips, ∀ (k1_h82 : k1_cond82 i v452 v458 = 1#1), ∀ a, (k1_off651 i v452 v458 k1_t163) a + S1x16.size a ≤ S256x128.size a) ∧
  (∀ k1_t163 : Fin (k1_t163_loop i v452 v458).trips, ∀ (k1_h82 : k1_cond82 i v452 v458 = 1#1), ∀ a, (k1_off652 i v452 v458 k1_t163) a + S1x16.size a ≤ S256x128.size a) ∧
  (∀ k1_t163 : Fin (k1_t163_loop i v452 v458).trips, ∀ (k1_h82 : k1_cond82 i v452 v458 = 1#1), ∀ a, (k1_off653 i v452 v458 k1_t163) a + S1x16.size a ≤ S256x128.size a) ∧
  (∀ k1_t163 : Fin (k1_t163_loop i v452 v458).trips, ∀ (k1_h82 : k1_cond82 i v452 v458 = 1#1), ∀ a, (k1_off654 i v452 v458 k1_t163) a + S1x16.size a ≤ S256x128.size a) ∧
  (∀ (k1_h82 : k1_cond82 i v452 v458 = 1#1), (k1_t164_loop i v452 v458).OK) ∧
  (∀ k1_t164 : Fin (k1_t164_loop i v452 v458).trips, ∀ (k1_h82 : k1_cond82 i v452 v458 = 1#1), ∀ a, (k1_off655 i v452 v458 k1_t164) a + S1x16.size a ≤ S256x128.size a) ∧
  (∀ k1_t164 : Fin (k1_t164_loop i v452 v458).trips, ∀ (k1_h82 : k1_cond82 i v452 v458 = 1#1), ∀ a, (k1_off656 i v452 v458 k1_t164) a + S1x16.size a ≤ S256x128.size a) ∧
  (∀ k1_t164 : Fin (k1_t164_loop i v452 v458).trips, ∀ (k1_h82 : k1_cond82 i v452 v458 = 1#1), ∀ a, (k1_off657 i v452 v458 k1_t164) a + S1x16.size a ≤ S256x128.size a) ∧
  (∀ k1_t164 : Fin (k1_t164_loop i v452 v458).trips, ∀ (k1_h82 : k1_cond82 i v452 v458 = 1#1), ∀ a, (k1_off658 i v452 v458 k1_t164) a + S1x16.size a ≤ S256x128.size a) ∧
  (∀ (k1_h114 : k1_cond114 i v452 v458 = 1#1), (k1_t227_loop i v452 v458).OK) ∧
  (∀ k1_t227 : Fin (k1_t227_loop i v452 v458).trips, ∀ (k1_h114 : k1_cond114 i v452 v458 = 1#1), ∀ a, (k1_off907 i v452 v458 k1_t227) a + S1x16.size a ≤ S256x128.size a)
def k1_chk18_1 (i : grid1.Coords) (v452 : BitVec 32) (v458 : BitVec 32) : Prop :=
  (∀ k1_t227 : Fin (k1_t227_loop i v452 v458).trips, ∀ (k1_h114 : k1_cond114 i v452 v458 = 1#1), ∀ a, (k1_off908 i v452 v458 k1_t227) a + S1x16.size a ≤ S256x128.size a) ∧
  (∀ k1_t227 : Fin (k1_t227_loop i v452 v458).trips, ∀ (k1_h114 : k1_cond114 i v452 v458 = 1#1), ∀ a, (k1_off909 i v452 v458 k1_t227) a + S1x16.size a ≤ S256x128.size a) ∧
  (∀ k1_t227 : Fin (k1_t227_loop i v452 v458).trips, ∀ (k1_h114 : k1_cond114 i v452 v458 = 1#1), ∀ a, (k1_off910 i v452 v458 k1_t227) a + S1x16.size a ≤ S256x128.size a) ∧
  (∀ (k1_h114 : k1_cond114 i v452 v458 = 1#1), (k1_t228_loop i v452 v458).OK) ∧
  (∀ k1_t228 : Fin (k1_t228_loop i v452 v458).trips, ∀ (k1_h114 : k1_cond114 i v452 v458 = 1#1), ∀ a, (k1_off911 i v452 v458 k1_t228) a + S1x16.size a ≤ S256x128.size a) ∧
  (∀ k1_t228 : Fin (k1_t228_loop i v452 v458).trips, ∀ (k1_h114 : k1_cond114 i v452 v458 = 1#1), ∀ a, (k1_off912 i v452 v458 k1_t228) a + S1x16.size a ≤ S256x128.size a) ∧
  (∀ k1_t228 : Fin (k1_t228_loop i v452 v458).trips, ∀ (k1_h114 : k1_cond114 i v452 v458 = 1#1), ∀ a, (k1_off913 i v452 v458 k1_t228) a + S1x16.size a ≤ S256x128.size a) ∧
  (∀ k1_t228 : Fin (k1_t228_loop i v452 v458).trips, ∀ (k1_h114 : k1_cond114 i v452 v458 = 1#1), ∀ a, (k1_off914 i v452 v458 k1_t228) a + S1x16.size a ≤ S256x128.size a)
def k1_chk18 (i : grid1.Coords) (v452 : BitVec 32) (v458 : BitVec 32) : Prop :=
  k1_chk18_0 i v452 v458 ∧
  k1_chk18_1 i v452 v458
theorem k1_t35_ok : ∀ (i : grid1.Coords) (v452 : BitVec 32) (v458 : BitVec 32) (k1_hw18 : k1_chk18 i v452 v458), ∀ (k1_h18 : k1_cond18 i v452 v458 = 1#1), (k1_t35_loop i v452 v458).OK := fun i v452 v458 k1_hw18 k1_h18 => k1_hw18.1.1 k1_h18
theorem k1_off138_inb : ∀ (i : grid1.Coords) (v452 : BitVec 32) (v458 : BitVec 32) (k1_hw18 : k1_chk18 i v452 v458) (k1_t35 : Fin (k1_t35_loop i v452 v458).trips), ∀ (k1_h18 : k1_cond18 i v452 v458 = 1#1), ∀ a, (k1_off138 i v452 v458 k1_t35) a + S1x16.size a ≤ S256x128.size a := fun i v452 v458 k1_hw18 k1_t35 k1_h18 => k1_hw18.1.2.1 k1_t35 k1_h18
theorem k1_off139_inb : ∀ (i : grid1.Coords) (v452 : BitVec 32) (v458 : BitVec 32) (k1_hw18 : k1_chk18 i v452 v458) (k1_t35 : Fin (k1_t35_loop i v452 v458).trips), ∀ (k1_h18 : k1_cond18 i v452 v458 = 1#1), ∀ a, (k1_off139 i v452 v458 k1_t35) a + S1x16.size a ≤ S256x128.size a := fun i v452 v458 k1_hw18 k1_t35 k1_h18 => k1_hw18.1.2.2.1 k1_t35 k1_h18
theorem k1_off140_inb : ∀ (i : grid1.Coords) (v452 : BitVec 32) (v458 : BitVec 32) (k1_hw18 : k1_chk18 i v452 v458) (k1_t35 : Fin (k1_t35_loop i v452 v458).trips), ∀ (k1_h18 : k1_cond18 i v452 v458 = 1#1), ∀ a, (k1_off140 i v452 v458 k1_t35) a + S1x16.size a ≤ S256x128.size a := fun i v452 v458 k1_hw18 k1_t35 k1_h18 => k1_hw18.1.2.2.2.1 k1_t35 k1_h18
theorem k1_off141_inb : ∀ (i : grid1.Coords) (v452 : BitVec 32) (v458 : BitVec 32) (k1_hw18 : k1_chk18 i v452 v458) (k1_t35 : Fin (k1_t35_loop i v452 v458).trips), ∀ (k1_h18 : k1_cond18 i v452 v458 = 1#1), ∀ a, (k1_off141 i v452 v458 k1_t35) a + S1x16.size a ≤ S256x128.size a := fun i v452 v458 k1_hw18 k1_t35 k1_h18 => k1_hw18.1.2.2.2.2.1 k1_t35 k1_h18
theorem k1_t36_ok : ∀ (i : grid1.Coords) (v452 : BitVec 32) (v458 : BitVec 32) (k1_hw18 : k1_chk18 i v452 v458), ∀ (k1_h18 : k1_cond18 i v452 v458 = 1#1), (k1_t36_loop i v452 v458).OK := fun i v452 v458 k1_hw18 k1_h18 => k1_hw18.1.2.2.2.2.2.1 k1_h18
theorem k1_off142_inb : ∀ (i : grid1.Coords) (v452 : BitVec 32) (v458 : BitVec 32) (k1_hw18 : k1_chk18 i v452 v458) (k1_t36 : Fin (k1_t36_loop i v452 v458).trips), ∀ (k1_h18 : k1_cond18 i v452 v458 = 1#1), ∀ a, (k1_off142 i v452 v458 k1_t36) a + S1x16.size a ≤ S256x128.size a := fun i v452 v458 k1_hw18 k1_t36 k1_h18 => k1_hw18.1.2.2.2.2.2.2.1 k1_t36 k1_h18
theorem k1_off143_inb : ∀ (i : grid1.Coords) (v452 : BitVec 32) (v458 : BitVec 32) (k1_hw18 : k1_chk18 i v452 v458) (k1_t36 : Fin (k1_t36_loop i v452 v458).trips), ∀ (k1_h18 : k1_cond18 i v452 v458 = 1#1), ∀ a, (k1_off143 i v452 v458 k1_t36) a + S1x16.size a ≤ S256x128.size a := fun i v452 v458 k1_hw18 k1_t36 k1_h18 => k1_hw18.1.2.2.2.2.2.2.2.1 k1_t36 k1_h18
theorem k1_off144_inb : ∀ (i : grid1.Coords) (v452 : BitVec 32) (v458 : BitVec 32) (k1_hw18 : k1_chk18 i v452 v458) (k1_t36 : Fin (k1_t36_loop i v452 v458).trips), ∀ (k1_h18 : k1_cond18 i v452 v458 = 1#1), ∀ a, (k1_off144 i v452 v458 k1_t36) a + S1x16.size a ≤ S256x128.size a := fun i v452 v458 k1_hw18 k1_t36 k1_h18 => k1_hw18.1.2.2.2.2.2.2.2.2.1 k1_t36 k1_h18
theorem k1_off145_inb : ∀ (i : grid1.Coords) (v452 : BitVec 32) (v458 : BitVec 32) (k1_hw18 : k1_chk18 i v452 v458) (k1_t36 : Fin (k1_t36_loop i v452 v458).trips), ∀ (k1_h18 : k1_cond18 i v452 v458 = 1#1), ∀ a, (k1_off145 i v452 v458 k1_t36) a + S1x16.size a ≤ S256x128.size a := fun i v452 v458 k1_hw18 k1_t36 k1_h18 => k1_hw18.1.2.2.2.2.2.2.2.2.2.1 k1_t36 k1_h18
theorem k1_t99_ok : ∀ (i : grid1.Coords) (v452 : BitVec 32) (v458 : BitVec 32) (k1_hw18 : k1_chk18 i v452 v458), ∀ (k1_h50 : k1_cond50 i v452 v458 = 1#1), (k1_t99_loop i v452 v458).OK := fun i v452 v458 k1_hw18 k1_h50 => k1_hw18.1.2.2.2.2.2.2.2.2.2.2.1 k1_h50
theorem k1_off395_inb : ∀ (i : grid1.Coords) (v452 : BitVec 32) (v458 : BitVec 32) (k1_hw18 : k1_chk18 i v452 v458) (k1_t99 : Fin (k1_t99_loop i v452 v458).trips), ∀ (k1_h50 : k1_cond50 i v452 v458 = 1#1), ∀ a, (k1_off395 i v452 v458 k1_t99) a + S1x16.size a ≤ S256x128.size a := fun i v452 v458 k1_hw18 k1_t99 k1_h50 => k1_hw18.1.2.2.2.2.2.2.2.2.2.2.2.1 k1_t99 k1_h50
theorem k1_off396_inb : ∀ (i : grid1.Coords) (v452 : BitVec 32) (v458 : BitVec 32) (k1_hw18 : k1_chk18 i v452 v458) (k1_t99 : Fin (k1_t99_loop i v452 v458).trips), ∀ (k1_h50 : k1_cond50 i v452 v458 = 1#1), ∀ a, (k1_off396 i v452 v458 k1_t99) a + S1x16.size a ≤ S256x128.size a := fun i v452 v458 k1_hw18 k1_t99 k1_h50 => k1_hw18.1.2.2.2.2.2.2.2.2.2.2.2.2.1 k1_t99 k1_h50
theorem k1_off397_inb : ∀ (i : grid1.Coords) (v452 : BitVec 32) (v458 : BitVec 32) (k1_hw18 : k1_chk18 i v452 v458) (k1_t99 : Fin (k1_t99_loop i v452 v458).trips), ∀ (k1_h50 : k1_cond50 i v452 v458 = 1#1), ∀ a, (k1_off397 i v452 v458 k1_t99) a + S1x16.size a ≤ S256x128.size a := fun i v452 v458 k1_hw18 k1_t99 k1_h50 => k1_hw18.1.2.2.2.2.2.2.2.2.2.2.2.2.2.1 k1_t99 k1_h50
theorem k1_off398_inb : ∀ (i : grid1.Coords) (v452 : BitVec 32) (v458 : BitVec 32) (k1_hw18 : k1_chk18 i v452 v458) (k1_t99 : Fin (k1_t99_loop i v452 v458).trips), ∀ (k1_h50 : k1_cond50 i v452 v458 = 1#1), ∀ a, (k1_off398 i v452 v458 k1_t99) a + S1x16.size a ≤ S256x128.size a := fun i v452 v458 k1_hw18 k1_t99 k1_h50 => k1_hw18.1.2.2.2.2.2.2.2.2.2.2.2.2.2.2.1 k1_t99 k1_h50
theorem k1_t100_ok : ∀ (i : grid1.Coords) (v452 : BitVec 32) (v458 : BitVec 32) (k1_hw18 : k1_chk18 i v452 v458), ∀ (k1_h50 : k1_cond50 i v452 v458 = 1#1), (k1_t100_loop i v452 v458).OK := fun i v452 v458 k1_hw18 k1_h50 => k1_hw18.1.2.2.2.2.2.2.2.2.2.2.2.2.2.2.2.1 k1_h50
theorem k1_off399_inb : ∀ (i : grid1.Coords) (v452 : BitVec 32) (v458 : BitVec 32) (k1_hw18 : k1_chk18 i v452 v458) (k1_t100 : Fin (k1_t100_loop i v452 v458).trips), ∀ (k1_h50 : k1_cond50 i v452 v458 = 1#1), ∀ a, (k1_off399 i v452 v458 k1_t100) a + S1x16.size a ≤ S256x128.size a := fun i v452 v458 k1_hw18 k1_t100 k1_h50 => k1_hw18.1.2.2.2.2.2.2.2.2.2.2.2.2.2.2.2.2.1 k1_t100 k1_h50
theorem k1_off400_inb : ∀ (i : grid1.Coords) (v452 : BitVec 32) (v458 : BitVec 32) (k1_hw18 : k1_chk18 i v452 v458) (k1_t100 : Fin (k1_t100_loop i v452 v458).trips), ∀ (k1_h50 : k1_cond50 i v452 v458 = 1#1), ∀ a, (k1_off400 i v452 v458 k1_t100) a + S1x16.size a ≤ S256x128.size a := fun i v452 v458 k1_hw18 k1_t100 k1_h50 => k1_hw18.1.2.2.2.2.2.2.2.2.2.2.2.2.2.2.2.2.2.1 k1_t100 k1_h50
theorem k1_off401_inb : ∀ (i : grid1.Coords) (v452 : BitVec 32) (v458 : BitVec 32) (k1_hw18 : k1_chk18 i v452 v458) (k1_t100 : Fin (k1_t100_loop i v452 v458).trips), ∀ (k1_h50 : k1_cond50 i v452 v458 = 1#1), ∀ a, (k1_off401 i v452 v458 k1_t100) a + S1x16.size a ≤ S256x128.size a := fun i v452 v458 k1_hw18 k1_t100 k1_h50 => k1_hw18.1.2.2.2.2.2.2.2.2.2.2.2.2.2.2.2.2.2.2.1 k1_t100 k1_h50
theorem k1_off402_inb : ∀ (i : grid1.Coords) (v452 : BitVec 32) (v458 : BitVec 32) (k1_hw18 : k1_chk18 i v452 v458) (k1_t100 : Fin (k1_t100_loop i v452 v458).trips), ∀ (k1_h50 : k1_cond50 i v452 v458 = 1#1), ∀ a, (k1_off402 i v452 v458 k1_t100) a + S1x16.size a ≤ S256x128.size a := fun i v452 v458 k1_hw18 k1_t100 k1_h50 => k1_hw18.1.2.2.2.2.2.2.2.2.2.2.2.2.2.2.2.2.2.2.2.1 k1_t100 k1_h50
theorem k1_t163_ok : ∀ (i : grid1.Coords) (v452 : BitVec 32) (v458 : BitVec 32) (k1_hw18 : k1_chk18 i v452 v458), ∀ (k1_h82 : k1_cond82 i v452 v458 = 1#1), (k1_t163_loop i v452 v458).OK := fun i v452 v458 k1_hw18 k1_h82 => k1_hw18.1.2.2.2.2.2.2.2.2.2.2.2.2.2.2.2.2.2.2.2.2.1 k1_h82
theorem k1_off651_inb : ∀ (i : grid1.Coords) (v452 : BitVec 32) (v458 : BitVec 32) (k1_hw18 : k1_chk18 i v452 v458) (k1_t163 : Fin (k1_t163_loop i v452 v458).trips), ∀ (k1_h82 : k1_cond82 i v452 v458 = 1#1), ∀ a, (k1_off651 i v452 v458 k1_t163) a + S1x16.size a ≤ S256x128.size a := fun i v452 v458 k1_hw18 k1_t163 k1_h82 => k1_hw18.1.2.2.2.2.2.2.2.2.2.2.2.2.2.2.2.2.2.2.2.2.2.1 k1_t163 k1_h82
theorem k1_off652_inb : ∀ (i : grid1.Coords) (v452 : BitVec 32) (v458 : BitVec 32) (k1_hw18 : k1_chk18 i v452 v458) (k1_t163 : Fin (k1_t163_loop i v452 v458).trips), ∀ (k1_h82 : k1_cond82 i v452 v458 = 1#1), ∀ a, (k1_off652 i v452 v458 k1_t163) a + S1x16.size a ≤ S256x128.size a := fun i v452 v458 k1_hw18 k1_t163 k1_h82 => k1_hw18.1.2.2.2.2.2.2.2.2.2.2.2.2.2.2.2.2.2.2.2.2.2.2.1 k1_t163 k1_h82
theorem k1_off653_inb : ∀ (i : grid1.Coords) (v452 : BitVec 32) (v458 : BitVec 32) (k1_hw18 : k1_chk18 i v452 v458) (k1_t163 : Fin (k1_t163_loop i v452 v458).trips), ∀ (k1_h82 : k1_cond82 i v452 v458 = 1#1), ∀ a, (k1_off653 i v452 v458 k1_t163) a + S1x16.size a ≤ S256x128.size a := fun i v452 v458 k1_hw18 k1_t163 k1_h82 => k1_hw18.1.2.2.2.2.2.2.2.2.2.2.2.2.2.2.2.2.2.2.2.2.2.2.2.1 k1_t163 k1_h82
theorem k1_off654_inb : ∀ (i : grid1.Coords) (v452 : BitVec 32) (v458 : BitVec 32) (k1_hw18 : k1_chk18 i v452 v458) (k1_t163 : Fin (k1_t163_loop i v452 v458).trips), ∀ (k1_h82 : k1_cond82 i v452 v458 = 1#1), ∀ a, (k1_off654 i v452 v458 k1_t163) a + S1x16.size a ≤ S256x128.size a := fun i v452 v458 k1_hw18 k1_t163 k1_h82 => k1_hw18.1.2.2.2.2.2.2.2.2.2.2.2.2.2.2.2.2.2.2.2.2.2.2.2.2.1 k1_t163 k1_h82
theorem k1_t164_ok : ∀ (i : grid1.Coords) (v452 : BitVec 32) (v458 : BitVec 32) (k1_hw18 : k1_chk18 i v452 v458), ∀ (k1_h82 : k1_cond82 i v452 v458 = 1#1), (k1_t164_loop i v452 v458).OK := fun i v452 v458 k1_hw18 k1_h82 => k1_hw18.1.2.2.2.2.2.2.2.2.2.2.2.2.2.2.2.2.2.2.2.2.2.2.2.2.2.1 k1_h82
theorem k1_off655_inb : ∀ (i : grid1.Coords) (v452 : BitVec 32) (v458 : BitVec 32) (k1_hw18 : k1_chk18 i v452 v458) (k1_t164 : Fin (k1_t164_loop i v452 v458).trips), ∀ (k1_h82 : k1_cond82 i v452 v458 = 1#1), ∀ a, (k1_off655 i v452 v458 k1_t164) a + S1x16.size a ≤ S256x128.size a := fun i v452 v458 k1_hw18 k1_t164 k1_h82 => k1_hw18.1.2.2.2.2.2.2.2.2.2.2.2.2.2.2.2.2.2.2.2.2.2.2.2.2.2.2.1 k1_t164 k1_h82
theorem k1_off656_inb : ∀ (i : grid1.Coords) (v452 : BitVec 32) (v458 : BitVec 32) (k1_hw18 : k1_chk18 i v452 v458) (k1_t164 : Fin (k1_t164_loop i v452 v458).trips), ∀ (k1_h82 : k1_cond82 i v452 v458 = 1#1), ∀ a, (k1_off656 i v452 v458 k1_t164) a + S1x16.size a ≤ S256x128.size a := fun i v452 v458 k1_hw18 k1_t164 k1_h82 => k1_hw18.1.2.2.2.2.2.2.2.2.2.2.2.2.2.2.2.2.2.2.2.2.2.2.2.2.2.2.2.1 k1_t164 k1_h82
theorem k1_off657_inb : ∀ (i : grid1.Coords) (v452 : BitVec 32) (v458 : BitVec 32) (k1_hw18 : k1_chk18 i v452 v458) (k1_t164 : Fin (k1_t164_loop i v452 v458).trips), ∀ (k1_h82 : k1_cond82 i v452 v458 = 1#1), ∀ a, (k1_off657 i v452 v458 k1_t164) a + S1x16.size a ≤ S256x128.size a := fun i v452 v458 k1_hw18 k1_t164 k1_h82 => k1_hw18.1.2.2.2.2.2.2.2.2.2.2.2.2.2.2.2.2.2.2.2.2.2.2.2.2.2.2.2.2.1 k1_t164 k1_h82
theorem k1_off658_inb : ∀ (i : grid1.Coords) (v452 : BitVec 32) (v458 : BitVec 32) (k1_hw18 : k1_chk18 i v452 v458) (k1_t164 : Fin (k1_t164_loop i v452 v458).trips), ∀ (k1_h82 : k1_cond82 i v452 v458 = 1#1), ∀ a, (k1_off658 i v452 v458 k1_t164) a + S1x16.size a ≤ S256x128.size a := fun i v452 v458 k1_hw18 k1_t164 k1_h82 => k1_hw18.1.2.2.2.2.2.2.2.2.2.2.2.2.2.2.2.2.2.2.2.2.2.2.2.2.2.2.2.2.2.1 k1_t164 k1_h82
theorem k1_t227_ok : ∀ (i : grid1.Coords) (v452 : BitVec 32) (v458 : BitVec 32) (k1_hw18 : k1_chk18 i v452 v458), ∀ (k1_h114 : k1_cond114 i v452 v458 = 1#1), (k1_t227_loop i v452 v458).OK := fun i v452 v458 k1_hw18 k1_h114 => k1_hw18.1.2.2.2.2.2.2.2.2.2.2.2.2.2.2.2.2.2.2.2.2.2.2.2.2.2.2.2.2.2.2.1 k1_h114
theorem k1_off907_inb : ∀ (i : grid1.Coords) (v452 : BitVec 32) (v458 : BitVec 32) (k1_hw18 : k1_chk18 i v452 v458) (k1_t227 : Fin (k1_t227_loop i v452 v458).trips), ∀ (k1_h114 : k1_cond114 i v452 v458 = 1#1), ∀ a, (k1_off907 i v452 v458 k1_t227) a + S1x16.size a ≤ S256x128.size a := fun i v452 v458 k1_hw18 k1_t227 k1_h114 => k1_hw18.1.2.2.2.2.2.2.2.2.2.2.2.2.2.2.2.2.2.2.2.2.2.2.2.2.2.2.2.2.2.2.2 k1_t227 k1_h114
theorem k1_off908_inb : ∀ (i : grid1.Coords) (v452 : BitVec 32) (v458 : BitVec 32) (k1_hw18 : k1_chk18 i v452 v458) (k1_t227 : Fin (k1_t227_loop i v452 v458).trips), ∀ (k1_h114 : k1_cond114 i v452 v458 = 1#1), ∀ a, (k1_off908 i v452 v458 k1_t227) a + S1x16.size a ≤ S256x128.size a := fun i v452 v458 k1_hw18 k1_t227 k1_h114 => k1_hw18.2.1 k1_t227 k1_h114
theorem k1_off909_inb : ∀ (i : grid1.Coords) (v452 : BitVec 32) (v458 : BitVec 32) (k1_hw18 : k1_chk18 i v452 v458) (k1_t227 : Fin (k1_t227_loop i v452 v458).trips), ∀ (k1_h114 : k1_cond114 i v452 v458 = 1#1), ∀ a, (k1_off909 i v452 v458 k1_t227) a + S1x16.size a ≤ S256x128.size a := fun i v452 v458 k1_hw18 k1_t227 k1_h114 => k1_hw18.2.2.1 k1_t227 k1_h114
theorem k1_off910_inb : ∀ (i : grid1.Coords) (v452 : BitVec 32) (v458 : BitVec 32) (k1_hw18 : k1_chk18 i v452 v458) (k1_t227 : Fin (k1_t227_loop i v452 v458).trips), ∀ (k1_h114 : k1_cond114 i v452 v458 = 1#1), ∀ a, (k1_off910 i v452 v458 k1_t227) a + S1x16.size a ≤ S256x128.size a := fun i v452 v458 k1_hw18 k1_t227 k1_h114 => k1_hw18.2.2.2.1 k1_t227 k1_h114
theorem k1_t228_ok : ∀ (i : grid1.Coords) (v452 : BitVec 32) (v458 : BitVec 32) (k1_hw18 : k1_chk18 i v452 v458), ∀ (k1_h114 : k1_cond114 i v452 v458 = 1#1), (k1_t228_loop i v452 v458).OK := fun i v452 v458 k1_hw18 k1_h114 => k1_hw18.2.2.2.2.1 k1_h114
theorem k1_off911_inb : ∀ (i : grid1.Coords) (v452 : BitVec 32) (v458 : BitVec 32) (k1_hw18 : k1_chk18 i v452 v458) (k1_t228 : Fin (k1_t228_loop i v452 v458).trips), ∀ (k1_h114 : k1_cond114 i v452 v458 = 1#1), ∀ a, (k1_off911 i v452 v458 k1_t228) a + S1x16.size a ≤ S256x128.size a := fun i v452 v458 k1_hw18 k1_t228 k1_h114 => k1_hw18.2.2.2.2.2.1 k1_t228 k1_h114
theorem k1_off912_inb : ∀ (i : grid1.Coords) (v452 : BitVec 32) (v458 : BitVec 32) (k1_hw18 : k1_chk18 i v452 v458) (k1_t228 : Fin (k1_t228_loop i v452 v458).trips), ∀ (k1_h114 : k1_cond114 i v452 v458 = 1#1), ∀ a, (k1_off912 i v452 v458 k1_t228) a + S1x16.size a ≤ S256x128.size a := fun i v452 v458 k1_hw18 k1_t228 k1_h114 => k1_hw18.2.2.2.2.2.2.1 k1_t228 k1_h114
theorem k1_off913_inb : ∀ (i : grid1.Coords) (v452 : BitVec 32) (v458 : BitVec 32) (k1_hw18 : k1_chk18 i v452 v458) (k1_t228 : Fin (k1_t228_loop i v452 v458).trips), ∀ (k1_h114 : k1_cond114 i v452 v458 = 1#1), ∀ a, (k1_off913 i v452 v458 k1_t228) a + S1x16.size a ≤ S256x128.size a := fun i v452 v458 k1_hw18 k1_t228 k1_h114 => k1_hw18.2.2.2.2.2.2.2.1 k1_t228 k1_h114
theorem k1_off914_inb : ∀ (i : grid1.Coords) (v452 : BitVec 32) (v458 : BitVec 32) (k1_hw18 : k1_chk18 i v452 v458) (k1_t228 : Fin (k1_t228_loop i v452 v458).trips), ∀ (k1_h114 : k1_cond114 i v452 v458 = 1#1), ∀ a, (k1_off914 i v452 v458 k1_t228) a + S1x16.size a ≤ S256x128.size a := fun i v452 v458 k1_hw18 k1_t228 k1_h114 => k1_hw18.2.2.2.2.2.2.2.2 k1_t228 k1_h114

@[reducible] def k1_t229_loop (i : grid1.Coords) (v464 : BitVec 32) (v469 : BitVec 32) : Scf.Loop 32 :=
  let c256_i32_1092 : BitVec 32 := 256#32
  let c0_i32_1091 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let c256_i32_1095 : BitVec 32 := 256#32
  let c0_i32_1094 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c768_i32_1093 : BitVec 32 := 768#32
  let v1670 : BitVec 32 := Scalar.subi v472 c768_i32_1093
  let v1671 : BitVec 32 := Scalar.maxsi c0_i32_1094 v1670
  let v1672 : BitVec 32 := Scalar.minsi c256_i32_1095 v1671
  let v1805 : BitVec 32 := Scalar.subi v1672 v1669
  let c1_i32_1196 : BitVec 32 := 1#32
  let v1807 : BitVec 32 := Scalar.divsi v1805 c1_i32_1196
  let v1808 : BitVec 32 := Scalar.muli v1807 c1_i32_1196
  let v1809 : BitVec 32 := Scalar.addi v1669 v1808
  let c1_i32_1197 : BitVec 32 := 1#32
  ⟨v1669, v1809, c1_i32_1197⟩
def k1_cond115 (i : grid1.Coords) (v464 : BitVec 32) (v469 : BitVec 32) : BitVec 1 :=
  let c256_i32_1095 : BitVec 32 := 256#32
  let c0_i32_1094 : BitVec 32 := 0#32
  let c1024_i32_204 : BitVec 32 := 1024#32
  let c0_i32_203 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v470 : BitVec 32 := Scalar.subi v469 v3
  let v471 : BitVec 32 := Scalar.maxsi c0_i32_203 v470
  let v472 : BitVec 32 := Scalar.minsi c1024_i32_204 v471
  let c768_i32_1093 : BitVec 32 := 768#32
  let v1670 : BitVec 32 := Scalar.subi v472 c768_i32_1093
  let v1671 : BitVec 32 := Scalar.maxsi c0_i32_1094 v1670
  let v1672 : BitVec 32 := Scalar.minsi c256_i32_1095 v1671
  let c256_i32_1092 : BitVec 32 := 256#32
  let c0_i32_1091 : BitVec 32 := 0#32
  let c1024_i32_202 : BitVec 32 := 1024#32
  let c0_i32_201 : BitVec 32 := 0#32
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let v1673 : BitVec 1 := Scalar.cmpi .sgt v1672 v1669
  let v1674 : BitVec 32 := Scalar.extui v1673
  let c0_i32_1096 : BitVec 32 := 0#32
  let v1675 : BitVec 1 := Scalar.cmpi .ne v1674 c0_i32_1096
  v1675

def k1_off915 (i : grid1.Coords) (v464 : BitVec 32) (v469 : BitVec 32) (k1_t229 : Fin (k1_t229_loop i v464 v469).trips) : Fin 2 → Nat :=
  let c256_i32_1092 : BitVec 32 := 256#32
  let c0_i32_1091 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let c1_i32_1197 : BitVec 32 := 1#32
  let arg13 : BitVec 32 := Scf.iv v1669 c1_i32_1197 k1_t229
  let v1828 : Index := Scalar.indexCast arg13
  let c0_1207 : Index := 0#32
  ![v1828.toNat, 0]
def k1_off916 (i : grid1.Coords) (v464 : BitVec 32) (v469 : BitVec 32) (k1_t229 : Fin (k1_t229_loop i v464 v469).trips) : Fin 2 → Nat :=
  let c256_i32_1092 : BitVec 32 := 256#32
  let c0_i32_1091 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let c1_i32_1197 : BitVec 32 := 1#32
  let arg13 : BitVec 32 := Scf.iv v1669 c1_i32_1197 k1_t229
  let v1832 : Index := Scalar.indexCast arg13
  let c16_1208 : Index := 16#32
  ![v1832.toNat, 16]
def k1_off917 (i : grid1.Coords) (v464 : BitVec 32) (v469 : BitVec 32) (k1_t229 : Fin (k1_t229_loop i v464 v469).trips) : Fin 2 → Nat :=
  let c256_i32_1092 : BitVec 32 := 256#32
  let c0_i32_1091 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let c1_i32_1197 : BitVec 32 := 1#32
  let arg13 : BitVec 32 := Scf.iv v1669 c1_i32_1197 k1_t229
  let v1836 : Index := Scalar.indexCast arg13
  let c32_1209 : Index := 32#32
  ![v1836.toNat, 32]
def k1_off918 (i : grid1.Coords) (v464 : BitVec 32) (v469 : BitVec 32) (k1_t229 : Fin (k1_t229_loop i v464 v469).trips) : Fin 2 → Nat :=
  let c256_i32_1092 : BitVec 32 := 256#32
  let c0_i32_1091 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let c1_i32_1197 : BitVec 32 := 1#32
  let arg13 : BitVec 32 := Scf.iv v1669 c1_i32_1197 k1_t229
  let v1840 : Index := Scalar.indexCast arg13
  let c48_1210 : Index := 48#32
  ![v1840.toNat, 48]
@[reducible] def k1_t230_loop (i : grid1.Coords) (v464 : BitVec 32) (v469 : BitVec 32) : Scf.Loop 32 :=
  let c256_i32_1092 : BitVec 32 := 256#32
  let c0_i32_1091 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let c256_i32_1095 : BitVec 32 := 256#32
  let c0_i32_1094 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c768_i32_1093 : BitVec 32 := 768#32
  let v1670 : BitVec 32 := Scalar.subi v472 c768_i32_1093
  let v1671 : BitVec 32 := Scalar.maxsi c0_i32_1094 v1670
  let v1672 : BitVec 32 := Scalar.minsi c256_i32_1095 v1671
  let v1805 : BitVec 32 := Scalar.subi v1672 v1669
  let c1_i32_1196 : BitVec 32 := 1#32
  let v1807 : BitVec 32 := Scalar.divsi v1805 c1_i32_1196
  let v1808 : BitVec 32 := Scalar.muli v1807 c1_i32_1196
  let v1809 : BitVec 32 := Scalar.addi v1669 v1808
  let v1806 : BitVec 32 := Scalar.addi v1669 v1805
  let c1_i32_1198 : BitVec 32 := 1#32
  ⟨v1809, v1806, c1_i32_1198⟩
def k1_off919 (i : grid1.Coords) (v464 : BitVec 32) (v469 : BitVec 32) (k1_t230 : Fin (k1_t230_loop i v464 v469).trips) : Fin 2 → Nat :=
  let c256_i32_1092 : BitVec 32 := 256#32
  let c0_i32_1091 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let c256_i32_1095 : BitVec 32 := 256#32
  let c0_i32_1094 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c768_i32_1093 : BitVec 32 := 768#32
  let v1670 : BitVec 32 := Scalar.subi v472 c768_i32_1093
  let v1671 : BitVec 32 := Scalar.maxsi c0_i32_1094 v1670
  let v1672 : BitVec 32 := Scalar.minsi c256_i32_1095 v1671
  let v1805 : BitVec 32 := Scalar.subi v1672 v1669
  let c1_i32_1196 : BitVec 32 := 1#32
  let v1807 : BitVec 32 := Scalar.divsi v1805 c1_i32_1196
  let v1808 : BitVec 32 := Scalar.muli v1807 c1_i32_1196
  let v1809 : BitVec 32 := Scalar.addi v1669 v1808
  let c1_i32_1198 : BitVec 32 := 1#32
  let arg13 : BitVec 32 := Scf.iv v1809 c1_i32_1198 k1_t230
  let v1828 : Index := Scalar.indexCast arg13
  let c0_1207 : Index := 0#32
  ![v1828.toNat, 0]
def k1_off920 (i : grid1.Coords) (v464 : BitVec 32) (v469 : BitVec 32) (k1_t230 : Fin (k1_t230_loop i v464 v469).trips) : Fin 2 → Nat :=
  let c256_i32_1092 : BitVec 32 := 256#32
  let c0_i32_1091 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let c256_i32_1095 : BitVec 32 := 256#32
  let c0_i32_1094 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c768_i32_1093 : BitVec 32 := 768#32
  let v1670 : BitVec 32 := Scalar.subi v472 c768_i32_1093
  let v1671 : BitVec 32 := Scalar.maxsi c0_i32_1094 v1670
  let v1672 : BitVec 32 := Scalar.minsi c256_i32_1095 v1671
  let v1805 : BitVec 32 := Scalar.subi v1672 v1669
  let c1_i32_1196 : BitVec 32 := 1#32
  let v1807 : BitVec 32 := Scalar.divsi v1805 c1_i32_1196
  let v1808 : BitVec 32 := Scalar.muli v1807 c1_i32_1196
  let v1809 : BitVec 32 := Scalar.addi v1669 v1808
  let c1_i32_1198 : BitVec 32 := 1#32
  let arg13 : BitVec 32 := Scf.iv v1809 c1_i32_1198 k1_t230
  let v1832 : Index := Scalar.indexCast arg13
  let c16_1208 : Index := 16#32
  ![v1832.toNat, 16]
def k1_off921 (i : grid1.Coords) (v464 : BitVec 32) (v469 : BitVec 32) (k1_t230 : Fin (k1_t230_loop i v464 v469).trips) : Fin 2 → Nat :=
  let c256_i32_1092 : BitVec 32 := 256#32
  let c0_i32_1091 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let c256_i32_1095 : BitVec 32 := 256#32
  let c0_i32_1094 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c768_i32_1093 : BitVec 32 := 768#32
  let v1670 : BitVec 32 := Scalar.subi v472 c768_i32_1093
  let v1671 : BitVec 32 := Scalar.maxsi c0_i32_1094 v1670
  let v1672 : BitVec 32 := Scalar.minsi c256_i32_1095 v1671
  let v1805 : BitVec 32 := Scalar.subi v1672 v1669
  let c1_i32_1196 : BitVec 32 := 1#32
  let v1807 : BitVec 32 := Scalar.divsi v1805 c1_i32_1196
  let v1808 : BitVec 32 := Scalar.muli v1807 c1_i32_1196
  let v1809 : BitVec 32 := Scalar.addi v1669 v1808
  let c1_i32_1198 : BitVec 32 := 1#32
  let arg13 : BitVec 32 := Scf.iv v1809 c1_i32_1198 k1_t230
  let v1836 : Index := Scalar.indexCast arg13
  let c32_1209 : Index := 32#32
  ![v1836.toNat, 32]
def k1_off922 (i : grid1.Coords) (v464 : BitVec 32) (v469 : BitVec 32) (k1_t230 : Fin (k1_t230_loop i v464 v469).trips) : Fin 2 → Nat :=
  let c256_i32_1092 : BitVec 32 := 256#32
  let c0_i32_1091 : BitVec 32 := 0#32
  let c1024_i32_202 : BitVec 32 := 1024#32
  let c0_i32_201 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v465 : BitVec 32 := Scalar.subi v464 v3
  let v466 : BitVec 32 := Scalar.maxsi c0_i32_201 v465
  let v467 : BitVec 32 := Scalar.minsi c1024_i32_202 v466
  let c768_i32_1090 : BitVec 32 := 768#32
  let v1667 : BitVec 32 := Scalar.subi v467 c768_i32_1090
  let v1668 : BitVec 32 := Scalar.maxsi c0_i32_1091 v1667
  let v1669 : BitVec 32 := Scalar.minsi c256_i32_1092 v1668
  let c256_i32_1095 : BitVec 32 := 256#32
  let c0_i32_1094 : BitVec 32 := 0#32
  let c1024_i32_204 : BitVec 32 := 1024#32
  let c0_i32_203 : BitVec 32 := 0#32
  let v470 : BitVec 32 := Scalar.subi v469 v3
  let v471 : BitVec 32 := Scalar.maxsi c0_i32_203 v470
  let v472 : BitVec 32 := Scalar.minsi c1024_i32_204 v471
  let c768_i32_1093 : BitVec 32 := 768#32
  let v1670 : BitVec 32 := Scalar.subi v472 c768_i32_1093
  let v1671 : BitVec 32 := Scalar.maxsi c0_i32_1094 v1670
  let v1672 : BitVec 32 := Scalar.minsi c256_i32_1095 v1671
  let v1805 : BitVec 32 := Scalar.subi v1672 v1669
  let c1_i32_1196 : BitVec 32 := 1#32
  let v1807 : BitVec 32 := Scalar.divsi v1805 c1_i32_1196
  let v1808 : BitVec 32 := Scalar.muli v1807 c1_i32_1196
  let v1809 : BitVec 32 := Scalar.addi v1669 v1808
  let c1_i32_1198 : BitVec 32 := 1#32
  let arg13 : BitVec 32 := Scf.iv v1809 c1_i32_1198 k1_t230
  let v1840 : Index := Scalar.indexCast arg13
  let c48_1210 : Index := 48#32
  ![v1840.toNat, 48]

def k1_chk19_0 (i : grid1.Coords) (v464 : BitVec 32) (v469 : BitVec 32) : Prop :=
  (∀ (k1_h19 : k1_cond19 i v464 v469 = 1#1), (k1_t37_loop i v464 v469).OK) ∧
  (∀ k1_t37 : Fin (k1_t37_loop i v464 v469).trips, ∀ (k1_h19 : k1_cond19 i v464 v469 = 1#1), ∀ a, (k1_off146 i v464 v469 k1_t37) a + S1x16.size a ≤ S256x128.size a) ∧
  (∀ k1_t37 : Fin (k1_t37_loop i v464 v469).trips, ∀ (k1_h19 : k1_cond19 i v464 v469 = 1#1), ∀ a, (k1_off147 i v464 v469 k1_t37) a + S1x16.size a ≤ S256x128.size a) ∧
  (∀ k1_t37 : Fin (k1_t37_loop i v464 v469).trips, ∀ (k1_h19 : k1_cond19 i v464 v469 = 1#1), ∀ a, (k1_off148 i v464 v469 k1_t37) a + S1x16.size a ≤ S256x128.size a) ∧
  (∀ k1_t37 : Fin (k1_t37_loop i v464 v469).trips, ∀ (k1_h19 : k1_cond19 i v464 v469 = 1#1), ∀ a, (k1_off149 i v464 v469 k1_t37) a + S1x16.size a ≤ S256x128.size a) ∧
  (∀ (k1_h19 : k1_cond19 i v464 v469 = 1#1), (k1_t38_loop i v464 v469).OK) ∧
  (∀ k1_t38 : Fin (k1_t38_loop i v464 v469).trips, ∀ (k1_h19 : k1_cond19 i v464 v469 = 1#1), ∀ a, (k1_off150 i v464 v469 k1_t38) a + S1x16.size a ≤ S256x128.size a) ∧
  (∀ k1_t38 : Fin (k1_t38_loop i v464 v469).trips, ∀ (k1_h19 : k1_cond19 i v464 v469 = 1#1), ∀ a, (k1_off151 i v464 v469 k1_t38) a + S1x16.size a ≤ S256x128.size a) ∧
  (∀ k1_t38 : Fin (k1_t38_loop i v464 v469).trips, ∀ (k1_h19 : k1_cond19 i v464 v469 = 1#1), ∀ a, (k1_off152 i v464 v469 k1_t38) a + S1x16.size a ≤ S256x128.size a) ∧
  (∀ k1_t38 : Fin (k1_t38_loop i v464 v469).trips, ∀ (k1_h19 : k1_cond19 i v464 v469 = 1#1), ∀ a, (k1_off153 i v464 v469 k1_t38) a + S1x16.size a ≤ S256x128.size a) ∧
  (∀ (k1_h51 : k1_cond51 i v464 v469 = 1#1), (k1_t101_loop i v464 v469).OK) ∧
  (∀ k1_t101 : Fin (k1_t101_loop i v464 v469).trips, ∀ (k1_h51 : k1_cond51 i v464 v469 = 1#1), ∀ a, (k1_off403 i v464 v469 k1_t101) a + S1x16.size a ≤ S256x128.size a) ∧
  (∀ k1_t101 : Fin (k1_t101_loop i v464 v469).trips, ∀ (k1_h51 : k1_cond51 i v464 v469 = 1#1), ∀ a, (k1_off404 i v464 v469 k1_t101) a + S1x16.size a ≤ S256x128.size a) ∧
  (∀ k1_t101 : Fin (k1_t101_loop i v464 v469).trips, ∀ (k1_h51 : k1_cond51 i v464 v469 = 1#1), ∀ a, (k1_off405 i v464 v469 k1_t101) a + S1x16.size a ≤ S256x128.size a) ∧
  (∀ k1_t101 : Fin (k1_t101_loop i v464 v469).trips, ∀ (k1_h51 : k1_cond51 i v464 v469 = 1#1), ∀ a, (k1_off406 i v464 v469 k1_t101) a + S1x16.size a ≤ S256x128.size a) ∧
  (∀ (k1_h51 : k1_cond51 i v464 v469 = 1#1), (k1_t102_loop i v464 v469).OK) ∧
  (∀ k1_t102 : Fin (k1_t102_loop i v464 v469).trips, ∀ (k1_h51 : k1_cond51 i v464 v469 = 1#1), ∀ a, (k1_off407 i v464 v469 k1_t102) a + S1x16.size a ≤ S256x128.size a) ∧
  (∀ k1_t102 : Fin (k1_t102_loop i v464 v469).trips, ∀ (k1_h51 : k1_cond51 i v464 v469 = 1#1), ∀ a, (k1_off408 i v464 v469 k1_t102) a + S1x16.size a ≤ S256x128.size a) ∧
  (∀ k1_t102 : Fin (k1_t102_loop i v464 v469).trips, ∀ (k1_h51 : k1_cond51 i v464 v469 = 1#1), ∀ a, (k1_off409 i v464 v469 k1_t102) a + S1x16.size a ≤ S256x128.size a) ∧
  (∀ k1_t102 : Fin (k1_t102_loop i v464 v469).trips, ∀ (k1_h51 : k1_cond51 i v464 v469 = 1#1), ∀ a, (k1_off410 i v464 v469 k1_t102) a + S1x16.size a ≤ S256x128.size a) ∧
  (∀ (k1_h83 : k1_cond83 i v464 v469 = 1#1), (k1_t165_loop i v464 v469).OK) ∧
  (∀ k1_t165 : Fin (k1_t165_loop i v464 v469).trips, ∀ (k1_h83 : k1_cond83 i v464 v469 = 1#1), ∀ a, (k1_off659 i v464 v469 k1_t165) a + S1x16.size a ≤ S256x128.size a) ∧
  (∀ k1_t165 : Fin (k1_t165_loop i v464 v469).trips, ∀ (k1_h83 : k1_cond83 i v464 v469 = 1#1), ∀ a, (k1_off660 i v464 v469 k1_t165) a + S1x16.size a ≤ S256x128.size a) ∧
  (∀ k1_t165 : Fin (k1_t165_loop i v464 v469).trips, ∀ (k1_h83 : k1_cond83 i v464 v469 = 1#1), ∀ a, (k1_off661 i v464 v469 k1_t165) a + S1x16.size a ≤ S256x128.size a) ∧
  (∀ k1_t165 : Fin (k1_t165_loop i v464 v469).trips, ∀ (k1_h83 : k1_cond83 i v464 v469 = 1#1), ∀ a, (k1_off662 i v464 v469 k1_t165) a + S1x16.size a ≤ S256x128.size a) ∧
  (∀ (k1_h83 : k1_cond83 i v464 v469 = 1#1), (k1_t166_loop i v464 v469).OK) ∧
  (∀ k1_t166 : Fin (k1_t166_loop i v464 v469).trips, ∀ (k1_h83 : k1_cond83 i v464 v469 = 1#1), ∀ a, (k1_off663 i v464 v469 k1_t166) a + S1x16.size a ≤ S256x128.size a) ∧
  (∀ k1_t166 : Fin (k1_t166_loop i v464 v469).trips, ∀ (k1_h83 : k1_cond83 i v464 v469 = 1#1), ∀ a, (k1_off664 i v464 v469 k1_t166) a + S1x16.size a ≤ S256x128.size a) ∧
  (∀ k1_t166 : Fin (k1_t166_loop i v464 v469).trips, ∀ (k1_h83 : k1_cond83 i v464 v469 = 1#1), ∀ a, (k1_off665 i v464 v469 k1_t166) a + S1x16.size a ≤ S256x128.size a) ∧
  (∀ k1_t166 : Fin (k1_t166_loop i v464 v469).trips, ∀ (k1_h83 : k1_cond83 i v464 v469 = 1#1), ∀ a, (k1_off666 i v464 v469 k1_t166) a + S1x16.size a ≤ S256x128.size a) ∧
  (∀ (k1_h115 : k1_cond115 i v464 v469 = 1#1), (k1_t229_loop i v464 v469).OK) ∧
  (∀ k1_t229 : Fin (k1_t229_loop i v464 v469).trips, ∀ (k1_h115 : k1_cond115 i v464 v469 = 1#1), ∀ a, (k1_off915 i v464 v469 k1_t229) a + S1x16.size a ≤ S256x128.size a)
def k1_chk19_1 (i : grid1.Coords) (v464 : BitVec 32) (v469 : BitVec 32) : Prop :=
  (∀ k1_t229 : Fin (k1_t229_loop i v464 v469).trips, ∀ (k1_h115 : k1_cond115 i v464 v469 = 1#1), ∀ a, (k1_off916 i v464 v469 k1_t229) a + S1x16.size a ≤ S256x128.size a) ∧
  (∀ k1_t229 : Fin (k1_t229_loop i v464 v469).trips, ∀ (k1_h115 : k1_cond115 i v464 v469 = 1#1), ∀ a, (k1_off917 i v464 v469 k1_t229) a + S1x16.size a ≤ S256x128.size a) ∧
  (∀ k1_t229 : Fin (k1_t229_loop i v464 v469).trips, ∀ (k1_h115 : k1_cond115 i v464 v469 = 1#1), ∀ a, (k1_off918 i v464 v469 k1_t229) a + S1x16.size a ≤ S256x128.size a) ∧
  (∀ (k1_h115 : k1_cond115 i v464 v469 = 1#1), (k1_t230_loop i v464 v469).OK) ∧
  (∀ k1_t230 : Fin (k1_t230_loop i v464 v469).trips, ∀ (k1_h115 : k1_cond115 i v464 v469 = 1#1), ∀ a, (k1_off919 i v464 v469 k1_t230) a + S1x16.size a ≤ S256x128.size a) ∧
  (∀ k1_t230 : Fin (k1_t230_loop i v464 v469).trips, ∀ (k1_h115 : k1_cond115 i v464 v469 = 1#1), ∀ a, (k1_off920 i v464 v469 k1_t230) a + S1x16.size a ≤ S256x128.size a) ∧
  (∀ k1_t230 : Fin (k1_t230_loop i v464 v469).trips, ∀ (k1_h115 : k1_cond115 i v464 v469 = 1#1), ∀ a, (k1_off921 i v464 v469 k1_t230) a + S1x16.size a ≤ S256x128.size a) ∧
  (∀ k1_t230 : Fin (k1_t230_loop i v464 v469).trips, ∀ (k1_h115 : k1_cond115 i v464 v469 = 1#1), ∀ a, (k1_off922 i v464 v469 k1_t230) a + S1x16.size a ≤ S256x128.size a)
def k1_chk19 (i : grid1.Coords) (v464 : BitVec 32) (v469 : BitVec 32) : Prop :=
  k1_chk19_0 i v464 v469 ∧
  k1_chk19_1 i v464 v469
theorem k1_t37_ok : ∀ (i : grid1.Coords) (v464 : BitVec 32) (v469 : BitVec 32) (k1_hw19 : k1_chk19 i v464 v469), ∀ (k1_h19 : k1_cond19 i v464 v469 = 1#1), (k1_t37_loop i v464 v469).OK := fun i v464 v469 k1_hw19 k1_h19 => k1_hw19.1.1 k1_h19
theorem k1_off146_inb : ∀ (i : grid1.Coords) (v464 : BitVec 32) (v469 : BitVec 32) (k1_hw19 : k1_chk19 i v464 v469) (k1_t37 : Fin (k1_t37_loop i v464 v469).trips), ∀ (k1_h19 : k1_cond19 i v464 v469 = 1#1), ∀ a, (k1_off146 i v464 v469 k1_t37) a + S1x16.size a ≤ S256x128.size a := fun i v464 v469 k1_hw19 k1_t37 k1_h19 => k1_hw19.1.2.1 k1_t37 k1_h19
theorem k1_off147_inb : ∀ (i : grid1.Coords) (v464 : BitVec 32) (v469 : BitVec 32) (k1_hw19 : k1_chk19 i v464 v469) (k1_t37 : Fin (k1_t37_loop i v464 v469).trips), ∀ (k1_h19 : k1_cond19 i v464 v469 = 1#1), ∀ a, (k1_off147 i v464 v469 k1_t37) a + S1x16.size a ≤ S256x128.size a := fun i v464 v469 k1_hw19 k1_t37 k1_h19 => k1_hw19.1.2.2.1 k1_t37 k1_h19
theorem k1_off148_inb : ∀ (i : grid1.Coords) (v464 : BitVec 32) (v469 : BitVec 32) (k1_hw19 : k1_chk19 i v464 v469) (k1_t37 : Fin (k1_t37_loop i v464 v469).trips), ∀ (k1_h19 : k1_cond19 i v464 v469 = 1#1), ∀ a, (k1_off148 i v464 v469 k1_t37) a + S1x16.size a ≤ S256x128.size a := fun i v464 v469 k1_hw19 k1_t37 k1_h19 => k1_hw19.1.2.2.2.1 k1_t37 k1_h19
theorem k1_off149_inb : ∀ (i : grid1.Coords) (v464 : BitVec 32) (v469 : BitVec 32) (k1_hw19 : k1_chk19 i v464 v469) (k1_t37 : Fin (k1_t37_loop i v464 v469).trips), ∀ (k1_h19 : k1_cond19 i v464 v469 = 1#1), ∀ a, (k1_off149 i v464 v469 k1_t37) a + S1x16.size a ≤ S256x128.size a := fun i v464 v469 k1_hw19 k1_t37 k1_h19 => k1_hw19.1.2.2.2.2.1 k1_t37 k1_h19
theorem k1_t38_ok : ∀ (i : grid1.Coords) (v464 : BitVec 32) (v469 : BitVec 32) (k1_hw19 : k1_chk19 i v464 v469), ∀ (k1_h19 : k1_cond19 i v464 v469 = 1#1), (k1_t38_loop i v464 v469).OK := fun i v464 v469 k1_hw19 k1_h19 => k1_hw19.1.2.2.2.2.2.1 k1_h19
theorem k1_off150_inb : ∀ (i : grid1.Coords) (v464 : BitVec 32) (v469 : BitVec 32) (k1_hw19 : k1_chk19 i v464 v469) (k1_t38 : Fin (k1_t38_loop i v464 v469).trips), ∀ (k1_h19 : k1_cond19 i v464 v469 = 1#1), ∀ a, (k1_off150 i v464 v469 k1_t38) a + S1x16.size a ≤ S256x128.size a := fun i v464 v469 k1_hw19 k1_t38 k1_h19 => k1_hw19.1.2.2.2.2.2.2.1 k1_t38 k1_h19
theorem k1_off151_inb : ∀ (i : grid1.Coords) (v464 : BitVec 32) (v469 : BitVec 32) (k1_hw19 : k1_chk19 i v464 v469) (k1_t38 : Fin (k1_t38_loop i v464 v469).trips), ∀ (k1_h19 : k1_cond19 i v464 v469 = 1#1), ∀ a, (k1_off151 i v464 v469 k1_t38) a + S1x16.size a ≤ S256x128.size a := fun i v464 v469 k1_hw19 k1_t38 k1_h19 => k1_hw19.1.2.2.2.2.2.2.2.1 k1_t38 k1_h19
theorem k1_off152_inb : ∀ (i : grid1.Coords) (v464 : BitVec 32) (v469 : BitVec 32) (k1_hw19 : k1_chk19 i v464 v469) (k1_t38 : Fin (k1_t38_loop i v464 v469).trips), ∀ (k1_h19 : k1_cond19 i v464 v469 = 1#1), ∀ a, (k1_off152 i v464 v469 k1_t38) a + S1x16.size a ≤ S256x128.size a := fun i v464 v469 k1_hw19 k1_t38 k1_h19 => k1_hw19.1.2.2.2.2.2.2.2.2.1 k1_t38 k1_h19
theorem k1_off153_inb : ∀ (i : grid1.Coords) (v464 : BitVec 32) (v469 : BitVec 32) (k1_hw19 : k1_chk19 i v464 v469) (k1_t38 : Fin (k1_t38_loop i v464 v469).trips), ∀ (k1_h19 : k1_cond19 i v464 v469 = 1#1), ∀ a, (k1_off153 i v464 v469 k1_t38) a + S1x16.size a ≤ S256x128.size a := fun i v464 v469 k1_hw19 k1_t38 k1_h19 => k1_hw19.1.2.2.2.2.2.2.2.2.2.1 k1_t38 k1_h19
theorem k1_t101_ok : ∀ (i : grid1.Coords) (v464 : BitVec 32) (v469 : BitVec 32) (k1_hw19 : k1_chk19 i v464 v469), ∀ (k1_h51 : k1_cond51 i v464 v469 = 1#1), (k1_t101_loop i v464 v469).OK := fun i v464 v469 k1_hw19 k1_h51 => k1_hw19.1.2.2.2.2.2.2.2.2.2.2.1 k1_h51
theorem k1_off403_inb : ∀ (i : grid1.Coords) (v464 : BitVec 32) (v469 : BitVec 32) (k1_hw19 : k1_chk19 i v464 v469) (k1_t101 : Fin (k1_t101_loop i v464 v469).trips), ∀ (k1_h51 : k1_cond51 i v464 v469 = 1#1), ∀ a, (k1_off403 i v464 v469 k1_t101) a + S1x16.size a ≤ S256x128.size a := fun i v464 v469 k1_hw19 k1_t101 k1_h51 => k1_hw19.1.2.2.2.2.2.2.2.2.2.2.2.1 k1_t101 k1_h51
theorem k1_off404_inb : ∀ (i : grid1.Coords) (v464 : BitVec 32) (v469 : BitVec 32) (k1_hw19 : k1_chk19 i v464 v469) (k1_t101 : Fin (k1_t101_loop i v464 v469).trips), ∀ (k1_h51 : k1_cond51 i v464 v469 = 1#1), ∀ a, (k1_off404 i v464 v469 k1_t101) a + S1x16.size a ≤ S256x128.size a := fun i v464 v469 k1_hw19 k1_t101 k1_h51 => k1_hw19.1.2.2.2.2.2.2.2.2.2.2.2.2.1 k1_t101 k1_h51
theorem k1_off405_inb : ∀ (i : grid1.Coords) (v464 : BitVec 32) (v469 : BitVec 32) (k1_hw19 : k1_chk19 i v464 v469) (k1_t101 : Fin (k1_t101_loop i v464 v469).trips), ∀ (k1_h51 : k1_cond51 i v464 v469 = 1#1), ∀ a, (k1_off405 i v464 v469 k1_t101) a + S1x16.size a ≤ S256x128.size a := fun i v464 v469 k1_hw19 k1_t101 k1_h51 => k1_hw19.1.2.2.2.2.2.2.2.2.2.2.2.2.2.1 k1_t101 k1_h51
theorem k1_off406_inb : ∀ (i : grid1.Coords) (v464 : BitVec 32) (v469 : BitVec 32) (k1_hw19 : k1_chk19 i v464 v469) (k1_t101 : Fin (k1_t101_loop i v464 v469).trips), ∀ (k1_h51 : k1_cond51 i v464 v469 = 1#1), ∀ a, (k1_off406 i v464 v469 k1_t101) a + S1x16.size a ≤ S256x128.size a := fun i v464 v469 k1_hw19 k1_t101 k1_h51 => k1_hw19.1.2.2.2.2.2.2.2.2.2.2.2.2.2.2.1 k1_t101 k1_h51
theorem k1_t102_ok : ∀ (i : grid1.Coords) (v464 : BitVec 32) (v469 : BitVec 32) (k1_hw19 : k1_chk19 i v464 v469), ∀ (k1_h51 : k1_cond51 i v464 v469 = 1#1), (k1_t102_loop i v464 v469).OK := fun i v464 v469 k1_hw19 k1_h51 => k1_hw19.1.2.2.2.2.2.2.2.2.2.2.2.2.2.2.2.1 k1_h51
theorem k1_off407_inb : ∀ (i : grid1.Coords) (v464 : BitVec 32) (v469 : BitVec 32) (k1_hw19 : k1_chk19 i v464 v469) (k1_t102 : Fin (k1_t102_loop i v464 v469).trips), ∀ (k1_h51 : k1_cond51 i v464 v469 = 1#1), ∀ a, (k1_off407 i v464 v469 k1_t102) a + S1x16.size a ≤ S256x128.size a := fun i v464 v469 k1_hw19 k1_t102 k1_h51 => k1_hw19.1.2.2.2.2.2.2.2.2.2.2.2.2.2.2.2.2.1 k1_t102 k1_h51
theorem k1_off408_inb : ∀ (i : grid1.Coords) (v464 : BitVec 32) (v469 : BitVec 32) (k1_hw19 : k1_chk19 i v464 v469) (k1_t102 : Fin (k1_t102_loop i v464 v469).trips), ∀ (k1_h51 : k1_cond51 i v464 v469 = 1#1), ∀ a, (k1_off408 i v464 v469 k1_t102) a + S1x16.size a ≤ S256x128.size a := fun i v464 v469 k1_hw19 k1_t102 k1_h51 => k1_hw19.1.2.2.2.2.2.2.2.2.2.2.2.2.2.2.2.2.2.1 k1_t102 k1_h51
theorem k1_off409_inb : ∀ (i : grid1.Coords) (v464 : BitVec 32) (v469 : BitVec 32) (k1_hw19 : k1_chk19 i v464 v469) (k1_t102 : Fin (k1_t102_loop i v464 v469).trips), ∀ (k1_h51 : k1_cond51 i v464 v469 = 1#1), ∀ a, (k1_off409 i v464 v469 k1_t102) a + S1x16.size a ≤ S256x128.size a := fun i v464 v469 k1_hw19 k1_t102 k1_h51 => k1_hw19.1.2.2.2.2.2.2.2.2.2.2.2.2.2.2.2.2.2.2.1 k1_t102 k1_h51
theorem k1_off410_inb : ∀ (i : grid1.Coords) (v464 : BitVec 32) (v469 : BitVec 32) (k1_hw19 : k1_chk19 i v464 v469) (k1_t102 : Fin (k1_t102_loop i v464 v469).trips), ∀ (k1_h51 : k1_cond51 i v464 v469 = 1#1), ∀ a, (k1_off410 i v464 v469 k1_t102) a + S1x16.size a ≤ S256x128.size a := fun i v464 v469 k1_hw19 k1_t102 k1_h51 => k1_hw19.1.2.2.2.2.2.2.2.2.2.2.2.2.2.2.2.2.2.2.2.1 k1_t102 k1_h51
theorem k1_t165_ok : ∀ (i : grid1.Coords) (v464 : BitVec 32) (v469 : BitVec 32) (k1_hw19 : k1_chk19 i v464 v469), ∀ (k1_h83 : k1_cond83 i v464 v469 = 1#1), (k1_t165_loop i v464 v469).OK := fun i v464 v469 k1_hw19 k1_h83 => k1_hw19.1.2.2.2.2.2.2.2.2.2.2.2.2.2.2.2.2.2.2.2.2.1 k1_h83
theorem k1_off659_inb : ∀ (i : grid1.Coords) (v464 : BitVec 32) (v469 : BitVec 32) (k1_hw19 : k1_chk19 i v464 v469) (k1_t165 : Fin (k1_t165_loop i v464 v469).trips), ∀ (k1_h83 : k1_cond83 i v464 v469 = 1#1), ∀ a, (k1_off659 i v464 v469 k1_t165) a + S1x16.size a ≤ S256x128.size a := fun i v464 v469 k1_hw19 k1_t165 k1_h83 => k1_hw19.1.2.2.2.2.2.2.2.2.2.2.2.2.2.2.2.2.2.2.2.2.2.1 k1_t165 k1_h83
theorem k1_off660_inb : ∀ (i : grid1.Coords) (v464 : BitVec 32) (v469 : BitVec 32) (k1_hw19 : k1_chk19 i v464 v469) (k1_t165 : Fin (k1_t165_loop i v464 v469).trips), ∀ (k1_h83 : k1_cond83 i v464 v469 = 1#1), ∀ a, (k1_off660 i v464 v469 k1_t165) a + S1x16.size a ≤ S256x128.size a := fun i v464 v469 k1_hw19 k1_t165 k1_h83 => k1_hw19.1.2.2.2.2.2.2.2.2.2.2.2.2.2.2.2.2.2.2.2.2.2.2.1 k1_t165 k1_h83
theorem k1_off661_inb : ∀ (i : grid1.Coords) (v464 : BitVec 32) (v469 : BitVec 32) (k1_hw19 : k1_chk19 i v464 v469) (k1_t165 : Fin (k1_t165_loop i v464 v469).trips), ∀ (k1_h83 : k1_cond83 i v464 v469 = 1#1), ∀ a, (k1_off661 i v464 v469 k1_t165) a + S1x16.size a ≤ S256x128.size a := fun i v464 v469 k1_hw19 k1_t165 k1_h83 => k1_hw19.1.2.2.2.2.2.2.2.2.2.2.2.2.2.2.2.2.2.2.2.2.2.2.2.1 k1_t165 k1_h83
theorem k1_off662_inb : ∀ (i : grid1.Coords) (v464 : BitVec 32) (v469 : BitVec 32) (k1_hw19 : k1_chk19 i v464 v469) (k1_t165 : Fin (k1_t165_loop i v464 v469).trips), ∀ (k1_h83 : k1_cond83 i v464 v469 = 1#1), ∀ a, (k1_off662 i v464 v469 k1_t165) a + S1x16.size a ≤ S256x128.size a := fun i v464 v469 k1_hw19 k1_t165 k1_h83 => k1_hw19.1.2.2.2.2.2.2.2.2.2.2.2.2.2.2.2.2.2.2.2.2.2.2.2.2.1 k1_t165 k1_h83
theorem k1_t166_ok : ∀ (i : grid1.Coords) (v464 : BitVec 32) (v469 : BitVec 32) (k1_hw19 : k1_chk19 i v464 v469), ∀ (k1_h83 : k1_cond83 i v464 v469 = 1#1), (k1_t166_loop i v464 v469).OK := fun i v464 v469 k1_hw19 k1_h83 => k1_hw19.1.2.2.2.2.2.2.2.2.2.2.2.2.2.2.2.2.2.2.2.2.2.2.2.2.2.1 k1_h83
theorem k1_off663_inb : ∀ (i : grid1.Coords) (v464 : BitVec 32) (v469 : BitVec 32) (k1_hw19 : k1_chk19 i v464 v469) (k1_t166 : Fin (k1_t166_loop i v464 v469).trips), ∀ (k1_h83 : k1_cond83 i v464 v469 = 1#1), ∀ a, (k1_off663 i v464 v469 k1_t166) a + S1x16.size a ≤ S256x128.size a := fun i v464 v469 k1_hw19 k1_t166 k1_h83 => k1_hw19.1.2.2.2.2.2.2.2.2.2.2.2.2.2.2.2.2.2.2.2.2.2.2.2.2.2.2.1 k1_t166 k1_h83
theorem k1_off664_inb : ∀ (i : grid1.Coords) (v464 : BitVec 32) (v469 : BitVec 32) (k1_hw19 : k1_chk19 i v464 v469) (k1_t166 : Fin (k1_t166_loop i v464 v469).trips), ∀ (k1_h83 : k1_cond83 i v464 v469 = 1#1), ∀ a, (k1_off664 i v464 v469 k1_t166) a + S1x16.size a ≤ S256x128.size a := fun i v464 v469 k1_hw19 k1_t166 k1_h83 => k1_hw19.1.2.2.2.2.2.2.2.2.2.2.2.2.2.2.2.2.2.2.2.2.2.2.2.2.2.2.2.1 k1_t166 k1_h83
theorem k1_off665_inb : ∀ (i : grid1.Coords) (v464 : BitVec 32) (v469 : BitVec 32) (k1_hw19 : k1_chk19 i v464 v469) (k1_t166 : Fin (k1_t166_loop i v464 v469).trips), ∀ (k1_h83 : k1_cond83 i v464 v469 = 1#1), ∀ a, (k1_off665 i v464 v469 k1_t166) a + S1x16.size a ≤ S256x128.size a := fun i v464 v469 k1_hw19 k1_t166 k1_h83 => k1_hw19.1.2.2.2.2.2.2.2.2.2.2.2.2.2.2.2.2.2.2.2.2.2.2.2.2.2.2.2.2.1 k1_t166 k1_h83
theorem k1_off666_inb : ∀ (i : grid1.Coords) (v464 : BitVec 32) (v469 : BitVec 32) (k1_hw19 : k1_chk19 i v464 v469) (k1_t166 : Fin (k1_t166_loop i v464 v469).trips), ∀ (k1_h83 : k1_cond83 i v464 v469 = 1#1), ∀ a, (k1_off666 i v464 v469 k1_t166) a + S1x16.size a ≤ S256x128.size a := fun i v464 v469 k1_hw19 k1_t166 k1_h83 => k1_hw19.1.2.2.2.2.2.2.2.2.2.2.2.2.2.2.2.2.2.2.2.2.2.2.2.2.2.2.2.2.2.1 k1_t166 k1_h83
theorem k1_t229_ok : ∀ (i : grid1.Coords) (v464 : BitVec 32) (v469 : BitVec 32) (k1_hw19 : k1_chk19 i v464 v469), ∀ (k1_h115 : k1_cond115 i v464 v469 = 1#1), (k1_t229_loop i v464 v469).OK := fun i v464 v469 k1_hw19 k1_h115 => k1_hw19.1.2.2.2.2.2.2.2.2.2.2.2.2.2.2.2.2.2.2.2.2.2.2.2.2.2.2.2.2.2.2.1 k1_h115
theorem k1_off915_inb : ∀ (i : grid1.Coords) (v464 : BitVec 32) (v469 : BitVec 32) (k1_hw19 : k1_chk19 i v464 v469) (k1_t229 : Fin (k1_t229_loop i v464 v469).trips), ∀ (k1_h115 : k1_cond115 i v464 v469 = 1#1), ∀ a, (k1_off915 i v464 v469 k1_t229) a + S1x16.size a ≤ S256x128.size a := fun i v464 v469 k1_hw19 k1_t229 k1_h115 => k1_hw19.1.2.2.2.2.2.2.2.2.2.2.2.2.2.2.2.2.2.2.2.2.2.2.2.2.2.2.2.2.2.2.2 k1_t229 k1_h115
theorem k1_off916_inb : ∀ (i : grid1.Coords) (v464 : BitVec 32) (v469 : BitVec 32) (k1_hw19 : k1_chk19 i v464 v469) (k1_t229 : Fin (k1_t229_loop i v464 v469).trips), ∀ (k1_h115 : k1_cond115 i v464 v469 = 1#1), ∀ a, (k1_off916 i v464 v469 k1_t229) a + S1x16.size a ≤ S256x128.size a := fun i v464 v469 k1_hw19 k1_t229 k1_h115 => k1_hw19.2.1 k1_t229 k1_h115
theorem k1_off917_inb : ∀ (i : grid1.Coords) (v464 : BitVec 32) (v469 : BitVec 32) (k1_hw19 : k1_chk19 i v464 v469) (k1_t229 : Fin (k1_t229_loop i v464 v469).trips), ∀ (k1_h115 : k1_cond115 i v464 v469 = 1#1), ∀ a, (k1_off917 i v464 v469 k1_t229) a + S1x16.size a ≤ S256x128.size a := fun i v464 v469 k1_hw19 k1_t229 k1_h115 => k1_hw19.2.2.1 k1_t229 k1_h115
theorem k1_off918_inb : ∀ (i : grid1.Coords) (v464 : BitVec 32) (v469 : BitVec 32) (k1_hw19 : k1_chk19 i v464 v469) (k1_t229 : Fin (k1_t229_loop i v464 v469).trips), ∀ (k1_h115 : k1_cond115 i v464 v469 = 1#1), ∀ a, (k1_off918 i v464 v469 k1_t229) a + S1x16.size a ≤ S256x128.size a := fun i v464 v469 k1_hw19 k1_t229 k1_h115 => k1_hw19.2.2.2.1 k1_t229 k1_h115
theorem k1_t230_ok : ∀ (i : grid1.Coords) (v464 : BitVec 32) (v469 : BitVec 32) (k1_hw19 : k1_chk19 i v464 v469), ∀ (k1_h115 : k1_cond115 i v464 v469 = 1#1), (k1_t230_loop i v464 v469).OK := fun i v464 v469 k1_hw19 k1_h115 => k1_hw19.2.2.2.2.1 k1_h115
theorem k1_off919_inb : ∀ (i : grid1.Coords) (v464 : BitVec 32) (v469 : BitVec 32) (k1_hw19 : k1_chk19 i v464 v469) (k1_t230 : Fin (k1_t230_loop i v464 v469).trips), ∀ (k1_h115 : k1_cond115 i v464 v469 = 1#1), ∀ a, (k1_off919 i v464 v469 k1_t230) a + S1x16.size a ≤ S256x128.size a := fun i v464 v469 k1_hw19 k1_t230 k1_h115 => k1_hw19.2.2.2.2.2.1 k1_t230 k1_h115
theorem k1_off920_inb : ∀ (i : grid1.Coords) (v464 : BitVec 32) (v469 : BitVec 32) (k1_hw19 : k1_chk19 i v464 v469) (k1_t230 : Fin (k1_t230_loop i v464 v469).trips), ∀ (k1_h115 : k1_cond115 i v464 v469 = 1#1), ∀ a, (k1_off920 i v464 v469 k1_t230) a + S1x16.size a ≤ S256x128.size a := fun i v464 v469 k1_hw19 k1_t230 k1_h115 => k1_hw19.2.2.2.2.2.2.1 k1_t230 k1_h115
theorem k1_off921_inb : ∀ (i : grid1.Coords) (v464 : BitVec 32) (v469 : BitVec 32) (k1_hw19 : k1_chk19 i v464 v469) (k1_t230 : Fin (k1_t230_loop i v464 v469).trips), ∀ (k1_h115 : k1_cond115 i v464 v469 = 1#1), ∀ a, (k1_off921 i v464 v469 k1_t230) a + S1x16.size a ≤ S256x128.size a := fun i v464 v469 k1_hw19 k1_t230 k1_h115 => k1_hw19.2.2.2.2.2.2.2.1 k1_t230 k1_h115
theorem k1_off922_inb : ∀ (i : grid1.Coords) (v464 : BitVec 32) (v469 : BitVec 32) (k1_hw19 : k1_chk19 i v464 v469) (k1_t230 : Fin (k1_t230_loop i v464 v469).trips), ∀ (k1_h115 : k1_cond115 i v464 v469 = 1#1), ∀ a, (k1_off922 i v464 v469 k1_t230) a + S1x16.size a ≤ S256x128.size a := fun i v464 v469 k1_hw19 k1_t230 k1_h115 => k1_hw19.2.2.2.2.2.2.2.2 k1_t230 k1_h115

@[reducible] def k1_t231_loop (i : grid1.Coords) (v474 : BitVec 32) (v480 : BitVec 32) : Scf.Loop 32 :=
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let c256_i32_1102 : BitVec 32 := 256#32
  let c0_i32_1101 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c768_i32_1100 : BitVec 32 := 768#32
  let v1679 : BitVec 32 := Scalar.subi v484 c768_i32_1100
  let v1680 : BitVec 32 := Scalar.maxsi c0_i32_1101 v1679
  let v1681 : BitVec 32 := Scalar.minsi c256_i32_1102 v1680
  let v1805 : BitVec 32 := Scalar.subi v1681 v1678
  let c1_i32_1196 : BitVec 32 := 1#32
  let v1807 : BitVec 32 := Scalar.divsi v1805 c1_i32_1196
  let v1808 : BitVec 32 := Scalar.muli v1807 c1_i32_1196
  let v1809 : BitVec 32 := Scalar.addi v1678 v1808
  let c1_i32_1197 : BitVec 32 := 1#32
  ⟨v1678, v1809, c1_i32_1197⟩
def k1_cond116 (i : grid1.Coords) (v474 : BitVec 32) (v480 : BitVec 32) : BitVec 1 :=
  let c256_i32_1102 : BitVec 32 := 256#32
  let c0_i32_1101 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v482 : BitVec 32 := Scalar.subi v481 v3
  let v483 : BitVec 32 := Scalar.maxsi c0_i32_209 v482
  let v484 : BitVec 32 := Scalar.minsi c1024_i32_210 v483
  let c768_i32_1100 : BitVec 32 := 768#32
  let v1679 : BitVec 32 := Scalar.subi v484 c768_i32_1100
  let v1680 : BitVec 32 := Scalar.maxsi c0_i32_1101 v1679
  let v1681 : BitVec 32 := Scalar.minsi c256_i32_1102 v1680
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let v1682 : BitVec 1 := Scalar.cmpi .sgt v1681 v1678
  let v1683 : BitVec 32 := Scalar.extui v1682
  let c0_i32_1103 : BitVec 32 := 0#32
  let v1684 : BitVec 1 := Scalar.cmpi .ne v1683 c0_i32_1103
  v1684

def k1_off923 (i : grid1.Coords) (v474 : BitVec 32) (v480 : BitVec 32) (k1_t231 : Fin (k1_t231_loop i v474 v480).trips) : Fin 2 → Nat :=
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let c1_i32_1197 : BitVec 32 := 1#32
  let arg13 : BitVec 32 := Scf.iv v1678 c1_i32_1197 k1_t231
  let v1828 : Index := Scalar.indexCast arg13
  let c64 : Index := 64#32
  ![v1828.toNat, 64]
def k1_off924 (i : grid1.Coords) (v474 : BitVec 32) (v480 : BitVec 32) (k1_t231 : Fin (k1_t231_loop i v474 v480).trips) : Fin 2 → Nat :=
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let c1_i32_1197 : BitVec 32 := 1#32
  let arg13 : BitVec 32 := Scf.iv v1678 c1_i32_1197 k1_t231
  let v1832 : Index := Scalar.indexCast arg13
  let c80 : Index := 80#32
  ![v1832.toNat, 80]
def k1_off925 (i : grid1.Coords) (v474 : BitVec 32) (v480 : BitVec 32) (k1_t231 : Fin (k1_t231_loop i v474 v480).trips) : Fin 2 → Nat :=
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let c1_i32_1197 : BitVec 32 := 1#32
  let arg13 : BitVec 32 := Scf.iv v1678 c1_i32_1197 k1_t231
  let v1836 : Index := Scalar.indexCast arg13
  let c96 : Index := 96#32
  ![v1836.toNat, 96]
def k1_off926 (i : grid1.Coords) (v474 : BitVec 32) (v480 : BitVec 32) (k1_t231 : Fin (k1_t231_loop i v474 v480).trips) : Fin 2 → Nat :=
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let c1_i32_1197 : BitVec 32 := 1#32
  let arg13 : BitVec 32 := Scf.iv v1678 c1_i32_1197 k1_t231
  let v1840 : Index := Scalar.indexCast arg13
  let c112 : Index := 112#32
  ![v1840.toNat, 112]
@[reducible] def k1_t232_loop (i : grid1.Coords) (v474 : BitVec 32) (v480 : BitVec 32) : Scf.Loop 32 :=
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let c256_i32_1102 : BitVec 32 := 256#32
  let c0_i32_1101 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c768_i32_1100 : BitVec 32 := 768#32
  let v1679 : BitVec 32 := Scalar.subi v484 c768_i32_1100
  let v1680 : BitVec 32 := Scalar.maxsi c0_i32_1101 v1679
  let v1681 : BitVec 32 := Scalar.minsi c256_i32_1102 v1680
  let v1805 : BitVec 32 := Scalar.subi v1681 v1678
  let c1_i32_1196 : BitVec 32 := 1#32
  let v1807 : BitVec 32 := Scalar.divsi v1805 c1_i32_1196
  let v1808 : BitVec 32 := Scalar.muli v1807 c1_i32_1196
  let v1809 : BitVec 32 := Scalar.addi v1678 v1808
  let v1806 : BitVec 32 := Scalar.addi v1678 v1805
  let c1_i32_1198 : BitVec 32 := 1#32
  ⟨v1809, v1806, c1_i32_1198⟩
def k1_off927 (i : grid1.Coords) (v474 : BitVec 32) (v480 : BitVec 32) (k1_t232 : Fin (k1_t232_loop i v474 v480).trips) : Fin 2 → Nat :=
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let c256_i32_1102 : BitVec 32 := 256#32
  let c0_i32_1101 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c768_i32_1100 : BitVec 32 := 768#32
  let v1679 : BitVec 32 := Scalar.subi v484 c768_i32_1100
  let v1680 : BitVec 32 := Scalar.maxsi c0_i32_1101 v1679
  let v1681 : BitVec 32 := Scalar.minsi c256_i32_1102 v1680
  let v1805 : BitVec 32 := Scalar.subi v1681 v1678
  let c1_i32_1196 : BitVec 32 := 1#32
  let v1807 : BitVec 32 := Scalar.divsi v1805 c1_i32_1196
  let v1808 : BitVec 32 := Scalar.muli v1807 c1_i32_1196
  let v1809 : BitVec 32 := Scalar.addi v1678 v1808
  let c1_i32_1198 : BitVec 32 := 1#32
  let arg13 : BitVec 32 := Scf.iv v1809 c1_i32_1198 k1_t232
  let v1828 : Index := Scalar.indexCast arg13
  let c64 : Index := 64#32
  ![v1828.toNat, 64]
def k1_off928 (i : grid1.Coords) (v474 : BitVec 32) (v480 : BitVec 32) (k1_t232 : Fin (k1_t232_loop i v474 v480).trips) : Fin 2 → Nat :=
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let c256_i32_1102 : BitVec 32 := 256#32
  let c0_i32_1101 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c768_i32_1100 : BitVec 32 := 768#32
  let v1679 : BitVec 32 := Scalar.subi v484 c768_i32_1100
  let v1680 : BitVec 32 := Scalar.maxsi c0_i32_1101 v1679
  let v1681 : BitVec 32 := Scalar.minsi c256_i32_1102 v1680
  let v1805 : BitVec 32 := Scalar.subi v1681 v1678
  let c1_i32_1196 : BitVec 32 := 1#32
  let v1807 : BitVec 32 := Scalar.divsi v1805 c1_i32_1196
  let v1808 : BitVec 32 := Scalar.muli v1807 c1_i32_1196
  let v1809 : BitVec 32 := Scalar.addi v1678 v1808
  let c1_i32_1198 : BitVec 32 := 1#32
  let arg13 : BitVec 32 := Scf.iv v1809 c1_i32_1198 k1_t232
  let v1832 : Index := Scalar.indexCast arg13
  let c80 : Index := 80#32
  ![v1832.toNat, 80]
def k1_off929 (i : grid1.Coords) (v474 : BitVec 32) (v480 : BitVec 32) (k1_t232 : Fin (k1_t232_loop i v474 v480).trips) : Fin 2 → Nat :=
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let c256_i32_1102 : BitVec 32 := 256#32
  let c0_i32_1101 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c768_i32_1100 : BitVec 32 := 768#32
  let v1679 : BitVec 32 := Scalar.subi v484 c768_i32_1100
  let v1680 : BitVec 32 := Scalar.maxsi c0_i32_1101 v1679
  let v1681 : BitVec 32 := Scalar.minsi c256_i32_1102 v1680
  let v1805 : BitVec 32 := Scalar.subi v1681 v1678
  let c1_i32_1196 : BitVec 32 := 1#32
  let v1807 : BitVec 32 := Scalar.divsi v1805 c1_i32_1196
  let v1808 : BitVec 32 := Scalar.muli v1807 c1_i32_1196
  let v1809 : BitVec 32 := Scalar.addi v1678 v1808
  let c1_i32_1198 : BitVec 32 := 1#32
  let arg13 : BitVec 32 := Scf.iv v1809 c1_i32_1198 k1_t232
  let v1836 : Index := Scalar.indexCast arg13
  let c96 : Index := 96#32
  ![v1836.toNat, 96]
def k1_off930 (i : grid1.Coords) (v474 : BitVec 32) (v480 : BitVec 32) (k1_t232 : Fin (k1_t232_loop i v474 v480).trips) : Fin 2 → Nat :=
  let c256_i32_1099 : BitVec 32 := 256#32
  let c0_i32_1098 : BitVec 32 := 0#32
  let c1024_i32_207 : BitVec 32 := 1024#32
  let c0_i32_206 : BitVec 32 := 0#32
  let c65536_i32_205 : BitVec 32 := 65536#32
  let v475 : BitVec 32 := Scalar.subi v474 c65536_i32_205
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v476 : BitVec 32 := Scalar.subi v475 v3
  let v477 : BitVec 32 := Scalar.maxsi c0_i32_206 v476
  let v478 : BitVec 32 := Scalar.minsi c1024_i32_207 v477
  let c768_i32_1097 : BitVec 32 := 768#32
  let v1676 : BitVec 32 := Scalar.subi v478 c768_i32_1097
  let v1677 : BitVec 32 := Scalar.maxsi c0_i32_1098 v1676
  let v1678 : BitVec 32 := Scalar.minsi c256_i32_1099 v1677
  let c256_i32_1102 : BitVec 32 := 256#32
  let c0_i32_1101 : BitVec 32 := 0#32
  let c1024_i32_210 : BitVec 32 := 1024#32
  let c0_i32_209 : BitVec 32 := 0#32
  let c65536_i32_208 : BitVec 32 := 65536#32
  let v481 : BitVec 32 := Scalar.subi v480 c65536_i32_208
  let v482 : BitVec 32 := Scalar.subi v481 v3
  let v483 : BitVec 32 := Scalar.maxsi c0_i32_209 v482
  let v484 : BitVec 32 := Scalar.minsi c1024_i32_210 v483
  let c768_i32_1100 : BitVec 32 := 768#32
  let v1679 : BitVec 32 := Scalar.subi v484 c768_i32_1100
  let v1680 : BitVec 32 := Scalar.maxsi c0_i32_1101 v1679
  let v1681 : BitVec 32 := Scalar.minsi c256_i32_1102 v1680
  let v1805 : BitVec 32 := Scalar.subi v1681 v1678
  let c1_i32_1196 : BitVec 32 := 1#32
  let v1807 : BitVec 32 := Scalar.divsi v1805 c1_i32_1196
  let v1808 : BitVec 32 := Scalar.muli v1807 c1_i32_1196
  let v1809 : BitVec 32 := Scalar.addi v1678 v1808
  let c1_i32_1198 : BitVec 32 := 1#32
  let arg13 : BitVec 32 := Scf.iv v1809 c1_i32_1198 k1_t232
  let v1840 : Index := Scalar.indexCast arg13
  let c112 : Index := 112#32
  ![v1840.toNat, 112]

def k1_chk20_0 (i : grid1.Coords) (v474 : BitVec 32) (v480 : BitVec 32) : Prop :=
  (∀ (k1_h20 : k1_cond20 i v474 v480 = 1#1), (k1_t39_loop i v474 v480).OK) ∧
  (∀ k1_t39 : Fin (k1_t39_loop i v474 v480).trips, ∀ (k1_h20 : k1_cond20 i v474 v480 = 1#1), ∀ a, (k1_off154 i v474 v480 k1_t39) a + S1x16.size a ≤ S256x128.size a) ∧
  (∀ k1_t39 : Fin (k1_t39_loop i v474 v480).trips, ∀ (k1_h20 : k1_cond20 i v474 v480 = 1#1), ∀ a, (k1_off155 i v474 v480 k1_t39) a + S1x16.size a ≤ S256x128.size a) ∧
  (∀ k1_t39 : Fin (k1_t39_loop i v474 v480).trips, ∀ (k1_h20 : k1_cond20 i v474 v480 = 1#1), ∀ a, (k1_off156 i v474 v480 k1_t39) a + S1x16.size a ≤ S256x128.size a) ∧
  (∀ k1_t39 : Fin (k1_t39_loop i v474 v480).trips, ∀ (k1_h20 : k1_cond20 i v474 v480 = 1#1), ∀ a, (k1_off157 i v474 v480 k1_t39) a + S1x16.size a ≤ S256x128.size a) ∧
  (∀ (k1_h20 : k1_cond20 i v474 v480 = 1#1), (k1_t40_loop i v474 v480).OK) ∧
  (∀ k1_t40 : Fin (k1_t40_loop i v474 v480).trips, ∀ (k1_h20 : k1_cond20 i v474 v480 = 1#1), ∀ a, (k1_off158 i v474 v480 k1_t40) a + S1x16.size a ≤ S256x128.size a) ∧
  (∀ k1_t40 : Fin (k1_t40_loop i v474 v480).trips, ∀ (k1_h20 : k1_cond20 i v474 v480 = 1#1), ∀ a, (k1_off159 i v474 v480 k1_t40) a + S1x16.size a ≤ S256x128.size a) ∧
  (∀ k1_t40 : Fin (k1_t40_loop i v474 v480).trips, ∀ (k1_h20 : k1_cond20 i v474 v480 = 1#1), ∀ a, (k1_off160 i v474 v480 k1_t40) a + S1x16.size a ≤ S256x128.size a) ∧
  (∀ k1_t40 : Fin (k1_t40_loop i v474 v480).trips, ∀ (k1_h20 : k1_cond20 i v474 v480 = 1#1), ∀ a, (k1_off161 i v474 v480 k1_t40) a + S1x16.size a ≤ S256x128.size a) ∧
  (∀ (k1_h52 : k1_cond52 i v474 v480 = 1#1), (k1_t103_loop i v474 v480).OK) ∧
  (∀ k1_t103 : Fin (k1_t103_loop i v474 v480).trips, ∀ (k1_h52 : k1_cond52 i v474 v480 = 1#1), ∀ a, (k1_off411 i v474 v480 k1_t103) a + S1x16.size a ≤ S256x128.size a) ∧
  (∀ k1_t103 : Fin (k1_t103_loop i v474 v480).trips, ∀ (k1_h52 : k1_cond52 i v474 v480 = 1#1), ∀ a, (k1_off412 i v474 v480 k1_t103) a + S1x16.size a ≤ S256x128.size a) ∧
  (∀ k1_t103 : Fin (k1_t103_loop i v474 v480).trips, ∀ (k1_h52 : k1_cond52 i v474 v480 = 1#1), ∀ a, (k1_off413 i v474 v480 k1_t103) a + S1x16.size a ≤ S256x128.size a) ∧
  (∀ k1_t103 : Fin (k1_t103_loop i v474 v480).trips, ∀ (k1_h52 : k1_cond52 i v474 v480 = 1#1), ∀ a, (k1_off414 i v474 v480 k1_t103) a + S1x16.size a ≤ S256x128.size a) ∧
  (∀ (k1_h52 : k1_cond52 i v474 v480 = 1#1), (k1_t104_loop i v474 v480).OK) ∧
  (∀ k1_t104 : Fin (k1_t104_loop i v474 v480).trips, ∀ (k1_h52 : k1_cond52 i v474 v480 = 1#1), ∀ a, (k1_off415 i v474 v480 k1_t104) a + S1x16.size a ≤ S256x128.size a) ∧
  (∀ k1_t104 : Fin (k1_t104_loop i v474 v480).trips, ∀ (k1_h52 : k1_cond52 i v474 v480 = 1#1), ∀ a, (k1_off416 i v474 v480 k1_t104) a + S1x16.size a ≤ S256x128.size a) ∧
  (∀ k1_t104 : Fin (k1_t104_loop i v474 v480).trips, ∀ (k1_h52 : k1_cond52 i v474 v480 = 1#1), ∀ a, (k1_off417 i v474 v480 k1_t104) a + S1x16.size a ≤ S256x128.size a) ∧
  (∀ k1_t104 : Fin (k1_t104_loop i v474 v480).trips, ∀ (k1_h52 : k1_cond52 i v474 v480 = 1#1), ∀ a, (k1_off418 i v474 v480 k1_t104) a + S1x16.size a ≤ S256x128.size a) ∧
  (∀ (k1_h84 : k1_cond84 i v474 v480 = 1#1), (k1_t167_loop i v474 v480).OK) ∧
  (∀ k1_t167 : Fin (k1_t167_loop i v474 v480).trips, ∀ (k1_h84 : k1_cond84 i v474 v480 = 1#1), ∀ a, (k1_off667 i v474 v480 k1_t167) a + S1x16.size a ≤ S256x128.size a) ∧
  (∀ k1_t167 : Fin (k1_t167_loop i v474 v480).trips, ∀ (k1_h84 : k1_cond84 i v474 v480 = 1#1), ∀ a, (k1_off668 i v474 v480 k1_t167) a + S1x16.size a ≤ S256x128.size a) ∧
  (∀ k1_t167 : Fin (k1_t167_loop i v474 v480).trips, ∀ (k1_h84 : k1_cond84 i v474 v480 = 1#1), ∀ a, (k1_off669 i v474 v480 k1_t167) a + S1x16.size a ≤ S256x128.size a) ∧
  (∀ k1_t167 : Fin (k1_t167_loop i v474 v480).trips, ∀ (k1_h84 : k1_cond84 i v474 v480 = 1#1), ∀ a, (k1_off670 i v474 v480 k1_t167) a + S1x16.size a ≤ S256x128.size a) ∧
  (∀ (k1_h84 : k1_cond84 i v474 v480 = 1#1), (k1_t168_loop i v474 v480).OK) ∧
  (∀ k1_t168 : Fin (k1_t168_loop i v474 v480).trips, ∀ (k1_h84 : k1_cond84 i v474 v480 = 1#1), ∀ a, (k1_off671 i v474 v480 k1_t168) a + S1x16.size a ≤ S256x128.size a) ∧
  (∀ k1_t168 : Fin (k1_t168_loop i v474 v480).trips, ∀ (k1_h84 : k1_cond84 i v474 v480 = 1#1), ∀ a, (k1_off672 i v474 v480 k1_t168) a + S1x16.size a ≤ S256x128.size a) ∧
  (∀ k1_t168 : Fin (k1_t168_loop i v474 v480).trips, ∀ (k1_h84 : k1_cond84 i v474 v480 = 1#1), ∀ a, (k1_off673 i v474 v480 k1_t168) a + S1x16.size a ≤ S256x128.size a) ∧
  (∀ k1_t168 : Fin (k1_t168_loop i v474 v480).trips, ∀ (k1_h84 : k1_cond84 i v474 v480 = 1#1), ∀ a, (k1_off674 i v474 v480 k1_t168) a + S1x16.size a ≤ S256x128.size a) ∧
  (∀ (k1_h116 : k1_cond116 i v474 v480 = 1#1), (k1_t231_loop i v474 v480).OK) ∧
  (∀ k1_t231 : Fin (k1_t231_loop i v474 v480).trips, ∀ (k1_h116 : k1_cond116 i v474 v480 = 1#1), ∀ a, (k1_off923 i v474 v480 k1_t231) a + S1x16.size a ≤ S256x128.size a)
def k1_chk20_1 (i : grid1.Coords) (v474 : BitVec 32) (v480 : BitVec 32) : Prop :=
  (∀ k1_t231 : Fin (k1_t231_loop i v474 v480).trips, ∀ (k1_h116 : k1_cond116 i v474 v480 = 1#1), ∀ a, (k1_off924 i v474 v480 k1_t231) a + S1x16.size a ≤ S256x128.size a) ∧
  (∀ k1_t231 : Fin (k1_t231_loop i v474 v480).trips, ∀ (k1_h116 : k1_cond116 i v474 v480 = 1#1), ∀ a, (k1_off925 i v474 v480 k1_t231) a + S1x16.size a ≤ S256x128.size a) ∧
  (∀ k1_t231 : Fin (k1_t231_loop i v474 v480).trips, ∀ (k1_h116 : k1_cond116 i v474 v480 = 1#1), ∀ a, (k1_off926 i v474 v480 k1_t231) a + S1x16.size a ≤ S256x128.size a) ∧
  (∀ (k1_h116 : k1_cond116 i v474 v480 = 1#1), (k1_t232_loop i v474 v480).OK) ∧
  (∀ k1_t232 : Fin (k1_t232_loop i v474 v480).trips, ∀ (k1_h116 : k1_cond116 i v474 v480 = 1#1), ∀ a, (k1_off927 i v474 v480 k1_t232) a + S1x16.size a ≤ S256x128.size a) ∧
  (∀ k1_t232 : Fin (k1_t232_loop i v474 v480).trips, ∀ (k1_h116 : k1_cond116 i v474 v480 = 1#1), ∀ a, (k1_off928 i v474 v480 k1_t232) a + S1x16.size a ≤ S256x128.size a) ∧
  (∀ k1_t232 : Fin (k1_t232_loop i v474 v480).trips, ∀ (k1_h116 : k1_cond116 i v474 v480 = 1#1), ∀ a, (k1_off929 i v474 v480 k1_t232) a + S1x16.size a ≤ S256x128.size a) ∧
  (∀ k1_t232 : Fin (k1_t232_loop i v474 v480).trips, ∀ (k1_h116 : k1_cond116 i v474 v480 = 1#1), ∀ a, (k1_off930 i v474 v480 k1_t232) a + S1x16.size a ≤ S256x128.size a)
def k1_chk20 (i : grid1.Coords) (v474 : BitVec 32) (v480 : BitVec 32) : Prop :=
  k1_chk20_0 i v474 v480 ∧
  k1_chk20_1 i v474 v480
theorem k1_t39_ok : ∀ (i : grid1.Coords) (v474 : BitVec 32) (v480 : BitVec 32) (k1_hw20 : k1_chk20 i v474 v480), ∀ (k1_h20 : k1_cond20 i v474 v480 = 1#1), (k1_t39_loop i v474 v480).OK := fun i v474 v480 k1_hw20 k1_h20 => k1_hw20.1.1 k1_h20
theorem k1_off154_inb : ∀ (i : grid1.Coords) (v474 : BitVec 32) (v480 : BitVec 32) (k1_hw20 : k1_chk20 i v474 v480) (k1_t39 : Fin (k1_t39_loop i v474 v480).trips), ∀ (k1_h20 : k1_cond20 i v474 v480 = 1#1), ∀ a, (k1_off154 i v474 v480 k1_t39) a + S1x16.size a ≤ S256x128.size a := fun i v474 v480 k1_hw20 k1_t39 k1_h20 => k1_hw20.1.2.1 k1_t39 k1_h20
theorem k1_off155_inb : ∀ (i : grid1.Coords) (v474 : BitVec 32) (v480 : BitVec 32) (k1_hw20 : k1_chk20 i v474 v480) (k1_t39 : Fin (k1_t39_loop i v474 v480).trips), ∀ (k1_h20 : k1_cond20 i v474 v480 = 1#1), ∀ a, (k1_off155 i v474 v480 k1_t39) a + S1x16.size a ≤ S256x128.size a := fun i v474 v480 k1_hw20 k1_t39 k1_h20 => k1_hw20.1.2.2.1 k1_t39 k1_h20
theorem k1_off156_inb : ∀ (i : grid1.Coords) (v474 : BitVec 32) (v480 : BitVec 32) (k1_hw20 : k1_chk20 i v474 v480) (k1_t39 : Fin (k1_t39_loop i v474 v480).trips), ∀ (k1_h20 : k1_cond20 i v474 v480 = 1#1), ∀ a, (k1_off156 i v474 v480 k1_t39) a + S1x16.size a ≤ S256x128.size a := fun i v474 v480 k1_hw20 k1_t39 k1_h20 => k1_hw20.1.2.2.2.1 k1_t39 k1_h20
theorem k1_off157_inb : ∀ (i : grid1.Coords) (v474 : BitVec 32) (v480 : BitVec 32) (k1_hw20 : k1_chk20 i v474 v480) (k1_t39 : Fin (k1_t39_loop i v474 v480).trips), ∀ (k1_h20 : k1_cond20 i v474 v480 = 1#1), ∀ a, (k1_off157 i v474 v480 k1_t39) a + S1x16.size a ≤ S256x128.size a := fun i v474 v480 k1_hw20 k1_t39 k1_h20 => k1_hw20.1.2.2.2.2.1 k1_t39 k1_h20
theorem k1_t40_ok : ∀ (i : grid1.Coords) (v474 : BitVec 32) (v480 : BitVec 32) (k1_hw20 : k1_chk20 i v474 v480), ∀ (k1_h20 : k1_cond20 i v474 v480 = 1#1), (k1_t40_loop i v474 v480).OK := fun i v474 v480 k1_hw20 k1_h20 => k1_hw20.1.2.2.2.2.2.1 k1_h20
theorem k1_off158_inb : ∀ (i : grid1.Coords) (v474 : BitVec 32) (v480 : BitVec 32) (k1_hw20 : k1_chk20 i v474 v480) (k1_t40 : Fin (k1_t40_loop i v474 v480).trips), ∀ (k1_h20 : k1_cond20 i v474 v480 = 1#1), ∀ a, (k1_off158 i v474 v480 k1_t40) a + S1x16.size a ≤ S256x128.size a := fun i v474 v480 k1_hw20 k1_t40 k1_h20 => k1_hw20.1.2.2.2.2.2.2.1 k1_t40 k1_h20
theorem k1_off159_inb : ∀ (i : grid1.Coords) (v474 : BitVec 32) (v480 : BitVec 32) (k1_hw20 : k1_chk20 i v474 v480) (k1_t40 : Fin (k1_t40_loop i v474 v480).trips), ∀ (k1_h20 : k1_cond20 i v474 v480 = 1#1), ∀ a, (k1_off159 i v474 v480 k1_t40) a + S1x16.size a ≤ S256x128.size a := fun i v474 v480 k1_hw20 k1_t40 k1_h20 => k1_hw20.1.2.2.2.2.2.2.2.1 k1_t40 k1_h20
theorem k1_off160_inb : ∀ (i : grid1.Coords) (v474 : BitVec 32) (v480 : BitVec 32) (k1_hw20 : k1_chk20 i v474 v480) (k1_t40 : Fin (k1_t40_loop i v474 v480).trips), ∀ (k1_h20 : k1_cond20 i v474 v480 = 1#1), ∀ a, (k1_off160 i v474 v480 k1_t40) a + S1x16.size a ≤ S256x128.size a := fun i v474 v480 k1_hw20 k1_t40 k1_h20 => k1_hw20.1.2.2.2.2.2.2.2.2.1 k1_t40 k1_h20
theorem k1_off161_inb : ∀ (i : grid1.Coords) (v474 : BitVec 32) (v480 : BitVec 32) (k1_hw20 : k1_chk20 i v474 v480) (k1_t40 : Fin (k1_t40_loop i v474 v480).trips), ∀ (k1_h20 : k1_cond20 i v474 v480 = 1#1), ∀ a, (k1_off161 i v474 v480 k1_t40) a + S1x16.size a ≤ S256x128.size a := fun i v474 v480 k1_hw20 k1_t40 k1_h20 => k1_hw20.1.2.2.2.2.2.2.2.2.2.1 k1_t40 k1_h20
theorem k1_t103_ok : ∀ (i : grid1.Coords) (v474 : BitVec 32) (v480 : BitVec 32) (k1_hw20 : k1_chk20 i v474 v480), ∀ (k1_h52 : k1_cond52 i v474 v480 = 1#1), (k1_t103_loop i v474 v480).OK := fun i v474 v480 k1_hw20 k1_h52 => k1_hw20.1.2.2.2.2.2.2.2.2.2.2.1 k1_h52
theorem k1_off411_inb : ∀ (i : grid1.Coords) (v474 : BitVec 32) (v480 : BitVec 32) (k1_hw20 : k1_chk20 i v474 v480) (k1_t103 : Fin (k1_t103_loop i v474 v480).trips), ∀ (k1_h52 : k1_cond52 i v474 v480 = 1#1), ∀ a, (k1_off411 i v474 v480 k1_t103) a + S1x16.size a ≤ S256x128.size a := fun i v474 v480 k1_hw20 k1_t103 k1_h52 => k1_hw20.1.2.2.2.2.2.2.2.2.2.2.2.1 k1_t103 k1_h52
theorem k1_off412_inb : ∀ (i : grid1.Coords) (v474 : BitVec 32) (v480 : BitVec 32) (k1_hw20 : k1_chk20 i v474 v480) (k1_t103 : Fin (k1_t103_loop i v474 v480).trips), ∀ (k1_h52 : k1_cond52 i v474 v480 = 1#1), ∀ a, (k1_off412 i v474 v480 k1_t103) a + S1x16.size a ≤ S256x128.size a := fun i v474 v480 k1_hw20 k1_t103 k1_h52 => k1_hw20.1.2.2.2.2.2.2.2.2.2.2.2.2.1 k1_t103 k1_h52
theorem k1_off413_inb : ∀ (i : grid1.Coords) (v474 : BitVec 32) (v480 : BitVec 32) (k1_hw20 : k1_chk20 i v474 v480) (k1_t103 : Fin (k1_t103_loop i v474 v480).trips), ∀ (k1_h52 : k1_cond52 i v474 v480 = 1#1), ∀ a, (k1_off413 i v474 v480 k1_t103) a + S1x16.size a ≤ S256x128.size a := fun i v474 v480 k1_hw20 k1_t103 k1_h52 => k1_hw20.1.2.2.2.2.2.2.2.2.2.2.2.2.2.1 k1_t103 k1_h52
theorem k1_off414_inb : ∀ (i : grid1.Coords) (v474 : BitVec 32) (v480 : BitVec 32) (k1_hw20 : k1_chk20 i v474 v480) (k1_t103 : Fin (k1_t103_loop i v474 v480).trips), ∀ (k1_h52 : k1_cond52 i v474 v480 = 1#1), ∀ a, (k1_off414 i v474 v480 k1_t103) a + S1x16.size a ≤ S256x128.size a := fun i v474 v480 k1_hw20 k1_t103 k1_h52 => k1_hw20.1.2.2.2.2.2.2.2.2.2.2.2.2.2.2.1 k1_t103 k1_h52
theorem k1_t104_ok : ∀ (i : grid1.Coords) (v474 : BitVec 32) (v480 : BitVec 32) (k1_hw20 : k1_chk20 i v474 v480), ∀ (k1_h52 : k1_cond52 i v474 v480 = 1#1), (k1_t104_loop i v474 v480).OK := fun i v474 v480 k1_hw20 k1_h52 => k1_hw20.1.2.2.2.2.2.2.2.2.2.2.2.2.2.2.2.1 k1_h52
theorem k1_off415_inb : ∀ (i : grid1.Coords) (v474 : BitVec 32) (v480 : BitVec 32) (k1_hw20 : k1_chk20 i v474 v480) (k1_t104 : Fin (k1_t104_loop i v474 v480).trips), ∀ (k1_h52 : k1_cond52 i v474 v480 = 1#1), ∀ a, (k1_off415 i v474 v480 k1_t104) a + S1x16.size a ≤ S256x128.size a := fun i v474 v480 k1_hw20 k1_t104 k1_h52 => k1_hw20.1.2.2.2.2.2.2.2.2.2.2.2.2.2.2.2.2.1 k1_t104 k1_h52
theorem k1_off416_inb : ∀ (i : grid1.Coords) (v474 : BitVec 32) (v480 : BitVec 32) (k1_hw20 : k1_chk20 i v474 v480) (k1_t104 : Fin (k1_t104_loop i v474 v480).trips), ∀ (k1_h52 : k1_cond52 i v474 v480 = 1#1), ∀ a, (k1_off416 i v474 v480 k1_t104) a + S1x16.size a ≤ S256x128.size a := fun i v474 v480 k1_hw20 k1_t104 k1_h52 => k1_hw20.1.2.2.2.2.2.2.2.2.2.2.2.2.2.2.2.2.2.1 k1_t104 k1_h52
theorem k1_off417_inb : ∀ (i : grid1.Coords) (v474 : BitVec 32) (v480 : BitVec 32) (k1_hw20 : k1_chk20 i v474 v480) (k1_t104 : Fin (k1_t104_loop i v474 v480).trips), ∀ (k1_h52 : k1_cond52 i v474 v480 = 1#1), ∀ a, (k1_off417 i v474 v480 k1_t104) a + S1x16.size a ≤ S256x128.size a := fun i v474 v480 k1_hw20 k1_t104 k1_h52 => k1_hw20.1.2.2.2.2.2.2.2.2.2.2.2.2.2.2.2.2.2.2.1 k1_t104 k1_h52
theorem k1_off418_inb : ∀ (i : grid1.Coords) (v474 : BitVec 32) (v480 : BitVec 32) (k1_hw20 : k1_chk20 i v474 v480) (k1_t104 : Fin (k1_t104_loop i v474 v480).trips), ∀ (k1_h52 : k1_cond52 i v474 v480 = 1#1), ∀ a, (k1_off418 i v474 v480 k1_t104) a + S1x16.size a ≤ S256x128.size a := fun i v474 v480 k1_hw20 k1_t104 k1_h52 => k1_hw20.1.2.2.2.2.2.2.2.2.2.2.2.2.2.2.2.2.2.2.2.1 k1_t104 k1_h52
theorem k1_t167_ok : ∀ (i : grid1.Coords) (v474 : BitVec 32) (v480 : BitVec 32) (k1_hw20 : k1_chk20 i v474 v480), ∀ (k1_h84 : k1_cond84 i v474 v480 = 1#1), (k1_t167_loop i v474 v480).OK := fun i v474 v480 k1_hw20 k1_h84 => k1_hw20.1.2.2.2.2.2.2.2.2.2.2.2.2.2.2.2.2.2.2.2.2.1 k1_h84
theorem k1_off667_inb : ∀ (i : grid1.Coords) (v474 : BitVec 32) (v480 : BitVec 32) (k1_hw20 : k1_chk20 i v474 v480) (k1_t167 : Fin (k1_t167_loop i v474 v480).trips), ∀ (k1_h84 : k1_cond84 i v474 v480 = 1#1), ∀ a, (k1_off667 i v474 v480 k1_t167) a + S1x16.size a ≤ S256x128.size a := fun i v474 v480 k1_hw20 k1_t167 k1_h84 => k1_hw20.1.2.2.2.2.2.2.2.2.2.2.2.2.2.2.2.2.2.2.2.2.2.1 k1_t167 k1_h84
theorem k1_off668_inb : ∀ (i : grid1.Coords) (v474 : BitVec 32) (v480 : BitVec 32) (k1_hw20 : k1_chk20 i v474 v480) (k1_t167 : Fin (k1_t167_loop i v474 v480).trips), ∀ (k1_h84 : k1_cond84 i v474 v480 = 1#1), ∀ a, (k1_off668 i v474 v480 k1_t167) a + S1x16.size a ≤ S256x128.size a := fun i v474 v480 k1_hw20 k1_t167 k1_h84 => k1_hw20.1.2.2.2.2.2.2.2.2.2.2.2.2.2.2.2.2.2.2.2.2.2.2.1 k1_t167 k1_h84
theorem k1_off669_inb : ∀ (i : grid1.Coords) (v474 : BitVec 32) (v480 : BitVec 32) (k1_hw20 : k1_chk20 i v474 v480) (k1_t167 : Fin (k1_t167_loop i v474 v480).trips), ∀ (k1_h84 : k1_cond84 i v474 v480 = 1#1), ∀ a, (k1_off669 i v474 v480 k1_t167) a + S1x16.size a ≤ S256x128.size a := fun i v474 v480 k1_hw20 k1_t167 k1_h84 => k1_hw20.1.2.2.2.2.2.2.2.2.2.2.2.2.2.2.2.2.2.2.2.2.2.2.2.1 k1_t167 k1_h84
theorem k1_off670_inb : ∀ (i : grid1.Coords) (v474 : BitVec 32) (v480 : BitVec 32) (k1_hw20 : k1_chk20 i v474 v480) (k1_t167 : Fin (k1_t167_loop i v474 v480).trips), ∀ (k1_h84 : k1_cond84 i v474 v480 = 1#1), ∀ a, (k1_off670 i v474 v480 k1_t167) a + S1x16.size a ≤ S256x128.size a := fun i v474 v480 k1_hw20 k1_t167 k1_h84 => k1_hw20.1.2.2.2.2.2.2.2.2.2.2.2.2.2.2.2.2.2.2.2.2.2.2.2.2.1 k1_t167 k1_h84
theorem k1_t168_ok : ∀ (i : grid1.Coords) (v474 : BitVec 32) (v480 : BitVec 32) (k1_hw20 : k1_chk20 i v474 v480), ∀ (k1_h84 : k1_cond84 i v474 v480 = 1#1), (k1_t168_loop i v474 v480).OK := fun i v474 v480 k1_hw20 k1_h84 => k1_hw20.1.2.2.2.2.2.2.2.2.2.2.2.2.2.2.2.2.2.2.2.2.2.2.2.2.2.1 k1_h84
theorem k1_off671_inb : ∀ (i : grid1.Coords) (v474 : BitVec 32) (v480 : BitVec 32) (k1_hw20 : k1_chk20 i v474 v480) (k1_t168 : Fin (k1_t168_loop i v474 v480).trips), ∀ (k1_h84 : k1_cond84 i v474 v480 = 1#1), ∀ a, (k1_off671 i v474 v480 k1_t168) a + S1x16.size a ≤ S256x128.size a := fun i v474 v480 k1_hw20 k1_t168 k1_h84 => k1_hw20.1.2.2.2.2.2.2.2.2.2.2.2.2.2.2.2.2.2.2.2.2.2.2.2.2.2.2.1 k1_t168 k1_h84
theorem k1_off672_inb : ∀ (i : grid1.Coords) (v474 : BitVec 32) (v480 : BitVec 32) (k1_hw20 : k1_chk20 i v474 v480) (k1_t168 : Fin (k1_t168_loop i v474 v480).trips), ∀ (k1_h84 : k1_cond84 i v474 v480 = 1#1), ∀ a, (k1_off672 i v474 v480 k1_t168) a + S1x16.size a ≤ S256x128.size a := fun i v474 v480 k1_hw20 k1_t168 k1_h84 => k1_hw20.1.2.2.2.2.2.2.2.2.2.2.2.2.2.2.2.2.2.2.2.2.2.2.2.2.2.2.2.1 k1_t168 k1_h84
theorem k1_off673_inb : ∀ (i : grid1.Coords) (v474 : BitVec 32) (v480 : BitVec 32) (k1_hw20 : k1_chk20 i v474 v480) (k1_t168 : Fin (k1_t168_loop i v474 v480).trips), ∀ (k1_h84 : k1_cond84 i v474 v480 = 1#1), ∀ a, (k1_off673 i v474 v480 k1_t168) a + S1x16.size a ≤ S256x128.size a := fun i v474 v480 k1_hw20 k1_t168 k1_h84 => k1_hw20.1.2.2.2.2.2.2.2.2.2.2.2.2.2.2.2.2.2.2.2.2.2.2.2.2.2.2.2.2.1 k1_t168 k1_h84
theorem k1_off674_inb : ∀ (i : grid1.Coords) (v474 : BitVec 32) (v480 : BitVec 32) (k1_hw20 : k1_chk20 i v474 v480) (k1_t168 : Fin (k1_t168_loop i v474 v480).trips), ∀ (k1_h84 : k1_cond84 i v474 v480 = 1#1), ∀ a, (k1_off674 i v474 v480 k1_t168) a + S1x16.size a ≤ S256x128.size a := fun i v474 v480 k1_hw20 k1_t168 k1_h84 => k1_hw20.1.2.2.2.2.2.2.2.2.2.2.2.2.2.2.2.2.2.2.2.2.2.2.2.2.2.2.2.2.2.1 k1_t168 k1_h84
theorem k1_t231_ok : ∀ (i : grid1.Coords) (v474 : BitVec 32) (v480 : BitVec 32) (k1_hw20 : k1_chk20 i v474 v480), ∀ (k1_h116 : k1_cond116 i v474 v480 = 1#1), (k1_t231_loop i v474 v480).OK := fun i v474 v480 k1_hw20 k1_h116 => k1_hw20.1.2.2.2.2.2.2.2.2.2.2.2.2.2.2.2.2.2.2.2.2.2.2.2.2.2.2.2.2.2.2.1 k1_h116
theorem k1_off923_inb : ∀ (i : grid1.Coords) (v474 : BitVec 32) (v480 : BitVec 32) (k1_hw20 : k1_chk20 i v474 v480) (k1_t231 : Fin (k1_t231_loop i v474 v480).trips), ∀ (k1_h116 : k1_cond116 i v474 v480 = 1#1), ∀ a, (k1_off923 i v474 v480 k1_t231) a + S1x16.size a ≤ S256x128.size a := fun i v474 v480 k1_hw20 k1_t231 k1_h116 => k1_hw20.1.2.2.2.2.2.2.2.2.2.2.2.2.2.2.2.2.2.2.2.2.2.2.2.2.2.2.2.2.2.2.2 k1_t231 k1_h116
theorem k1_off924_inb : ∀ (i : grid1.Coords) (v474 : BitVec 32) (v480 : BitVec 32) (k1_hw20 : k1_chk20 i v474 v480) (k1_t231 : Fin (k1_t231_loop i v474 v480).trips), ∀ (k1_h116 : k1_cond116 i v474 v480 = 1#1), ∀ a, (k1_off924 i v474 v480 k1_t231) a + S1x16.size a ≤ S256x128.size a := fun i v474 v480 k1_hw20 k1_t231 k1_h116 => k1_hw20.2.1 k1_t231 k1_h116
theorem k1_off925_inb : ∀ (i : grid1.Coords) (v474 : BitVec 32) (v480 : BitVec 32) (k1_hw20 : k1_chk20 i v474 v480) (k1_t231 : Fin (k1_t231_loop i v474 v480).trips), ∀ (k1_h116 : k1_cond116 i v474 v480 = 1#1), ∀ a, (k1_off925 i v474 v480 k1_t231) a + S1x16.size a ≤ S256x128.size a := fun i v474 v480 k1_hw20 k1_t231 k1_h116 => k1_hw20.2.2.1 k1_t231 k1_h116
theorem k1_off926_inb : ∀ (i : grid1.Coords) (v474 : BitVec 32) (v480 : BitVec 32) (k1_hw20 : k1_chk20 i v474 v480) (k1_t231 : Fin (k1_t231_loop i v474 v480).trips), ∀ (k1_h116 : k1_cond116 i v474 v480 = 1#1), ∀ a, (k1_off926 i v474 v480 k1_t231) a + S1x16.size a ≤ S256x128.size a := fun i v474 v480 k1_hw20 k1_t231 k1_h116 => k1_hw20.2.2.2.1 k1_t231 k1_h116
theorem k1_t232_ok : ∀ (i : grid1.Coords) (v474 : BitVec 32) (v480 : BitVec 32) (k1_hw20 : k1_chk20 i v474 v480), ∀ (k1_h116 : k1_cond116 i v474 v480 = 1#1), (k1_t232_loop i v474 v480).OK := fun i v474 v480 k1_hw20 k1_h116 => k1_hw20.2.2.2.2.1 k1_h116
theorem k1_off927_inb : ∀ (i : grid1.Coords) (v474 : BitVec 32) (v480 : BitVec 32) (k1_hw20 : k1_chk20 i v474 v480) (k1_t232 : Fin (k1_t232_loop i v474 v480).trips), ∀ (k1_h116 : k1_cond116 i v474 v480 = 1#1), ∀ a, (k1_off927 i v474 v480 k1_t232) a + S1x16.size a ≤ S256x128.size a := fun i v474 v480 k1_hw20 k1_t232 k1_h116 => k1_hw20.2.2.2.2.2.1 k1_t232 k1_h116
theorem k1_off928_inb : ∀ (i : grid1.Coords) (v474 : BitVec 32) (v480 : BitVec 32) (k1_hw20 : k1_chk20 i v474 v480) (k1_t232 : Fin (k1_t232_loop i v474 v480).trips), ∀ (k1_h116 : k1_cond116 i v474 v480 = 1#1), ∀ a, (k1_off928 i v474 v480 k1_t232) a + S1x16.size a ≤ S256x128.size a := fun i v474 v480 k1_hw20 k1_t232 k1_h116 => k1_hw20.2.2.2.2.2.2.1 k1_t232 k1_h116
theorem k1_off929_inb : ∀ (i : grid1.Coords) (v474 : BitVec 32) (v480 : BitVec 32) (k1_hw20 : k1_chk20 i v474 v480) (k1_t232 : Fin (k1_t232_loop i v474 v480).trips), ∀ (k1_h116 : k1_cond116 i v474 v480 = 1#1), ∀ a, (k1_off929 i v474 v480 k1_t232) a + S1x16.size a ≤ S256x128.size a := fun i v474 v480 k1_hw20 k1_t232 k1_h116 => k1_hw20.2.2.2.2.2.2.2.1 k1_t232 k1_h116
theorem k1_off930_inb : ∀ (i : grid1.Coords) (v474 : BitVec 32) (v480 : BitVec 32) (k1_hw20 : k1_chk20 i v474 v480) (k1_t232 : Fin (k1_t232_loop i v474 v480).trips), ∀ (k1_h116 : k1_cond116 i v474 v480 = 1#1), ∀ a, (k1_off930 i v474 v480 k1_t232) a + S1x16.size a ≤ S256x128.size a := fun i v474 v480 k1_hw20 k1_t232 k1_h116 => k1_hw20.2.2.2.2.2.2.2.2 k1_t232 k1_h116

@[reducible] def k1_t233_loop (i : grid1.Coords) (v486 : BitVec 32) (v491 : BitVec 32) : Scf.Loop 32 :=
  let c256_i32_1106 : BitVec 32 := 256#32
  let c0_i32_1105 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let c256_i32_1109 : BitVec 32 := 256#32
  let c0_i32_1108 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c768_i32_1107 : BitVec 32 := 768#32
  let v1688 : BitVec 32 := Scalar.subi v494 c768_i32_1107
  let v1689 : BitVec 32 := Scalar.maxsi c0_i32_1108 v1688
  let v1690 : BitVec 32 := Scalar.minsi c256_i32_1109 v1689
  let v1805 : BitVec 32 := Scalar.subi v1690 v1687
  let c1_i32_1196 : BitVec 32 := 1#32
  let v1807 : BitVec 32 := Scalar.divsi v1805 c1_i32_1196
  let v1808 : BitVec 32 := Scalar.muli v1807 c1_i32_1196
  let v1809 : BitVec 32 := Scalar.addi v1687 v1808
  let c1_i32_1197 : BitVec 32 := 1#32
  ⟨v1687, v1809, c1_i32_1197⟩
def k1_cond117 (i : grid1.Coords) (v486 : BitVec 32) (v491 : BitVec 32) : BitVec 1 :=
  let c256_i32_1109 : BitVec 32 := 256#32
  let c0_i32_1108 : BitVec 32 := 0#32
  let c1024_i32_214 : BitVec 32 := 1024#32
  let c0_i32_213 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v492 : BitVec 32 := Scalar.subi v491 v3
  let v493 : BitVec 32 := Scalar.maxsi c0_i32_213 v492
  let v494 : BitVec 32 := Scalar.minsi c1024_i32_214 v493
  let c768_i32_1107 : BitVec 32 := 768#32
  let v1688 : BitVec 32 := Scalar.subi v494 c768_i32_1107
  let v1689 : BitVec 32 := Scalar.maxsi c0_i32_1108 v1688
  let v1690 : BitVec 32 := Scalar.minsi c256_i32_1109 v1689
  let c256_i32_1106 : BitVec 32 := 256#32
  let c0_i32_1105 : BitVec 32 := 0#32
  let c1024_i32_212 : BitVec 32 := 1024#32
  let c0_i32_211 : BitVec 32 := 0#32
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let v1691 : BitVec 1 := Scalar.cmpi .sgt v1690 v1687
  let v1692 : BitVec 32 := Scalar.extui v1691
  let c0_i32_1110 : BitVec 32 := 0#32
  let v1693 : BitVec 1 := Scalar.cmpi .ne v1692 c0_i32_1110
  v1693

def k1_off931 (i : grid1.Coords) (v486 : BitVec 32) (v491 : BitVec 32) (k1_t233 : Fin (k1_t233_loop i v486 v491).trips) : Fin 2 → Nat :=
  let c256_i32_1106 : BitVec 32 := 256#32
  let c0_i32_1105 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let c1_i32_1197 : BitVec 32 := 1#32
  let arg13 : BitVec 32 := Scf.iv v1687 c1_i32_1197 k1_t233
  let v1828 : Index := Scalar.indexCast arg13
  let c0_1207 : Index := 0#32
  ![v1828.toNat, 0]
def k1_off932 (i : grid1.Coords) (v486 : BitVec 32) (v491 : BitVec 32) (k1_t233 : Fin (k1_t233_loop i v486 v491).trips) : Fin 2 → Nat :=
  let c256_i32_1106 : BitVec 32 := 256#32
  let c0_i32_1105 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let c1_i32_1197 : BitVec 32 := 1#32
  let arg13 : BitVec 32 := Scf.iv v1687 c1_i32_1197 k1_t233
  let v1832 : Index := Scalar.indexCast arg13
  let c16_1208 : Index := 16#32
  ![v1832.toNat, 16]
def k1_off933 (i : grid1.Coords) (v486 : BitVec 32) (v491 : BitVec 32) (k1_t233 : Fin (k1_t233_loop i v486 v491).trips) : Fin 2 → Nat :=
  let c256_i32_1106 : BitVec 32 := 256#32
  let c0_i32_1105 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let c1_i32_1197 : BitVec 32 := 1#32
  let arg13 : BitVec 32 := Scf.iv v1687 c1_i32_1197 k1_t233
  let v1836 : Index := Scalar.indexCast arg13
  let c32_1209 : Index := 32#32
  ![v1836.toNat, 32]
def k1_off934 (i : grid1.Coords) (v486 : BitVec 32) (v491 : BitVec 32) (k1_t233 : Fin (k1_t233_loop i v486 v491).trips) : Fin 2 → Nat :=
  let c256_i32_1106 : BitVec 32 := 256#32
  let c0_i32_1105 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let c1_i32_1197 : BitVec 32 := 1#32
  let arg13 : BitVec 32 := Scf.iv v1687 c1_i32_1197 k1_t233
  let v1840 : Index := Scalar.indexCast arg13
  let c48_1210 : Index := 48#32
  ![v1840.toNat, 48]
@[reducible] def k1_t234_loop (i : grid1.Coords) (v486 : BitVec 32) (v491 : BitVec 32) : Scf.Loop 32 :=
  let c256_i32_1106 : BitVec 32 := 256#32
  let c0_i32_1105 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let c256_i32_1109 : BitVec 32 := 256#32
  let c0_i32_1108 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c768_i32_1107 : BitVec 32 := 768#32
  let v1688 : BitVec 32 := Scalar.subi v494 c768_i32_1107
  let v1689 : BitVec 32 := Scalar.maxsi c0_i32_1108 v1688
  let v1690 : BitVec 32 := Scalar.minsi c256_i32_1109 v1689
  let v1805 : BitVec 32 := Scalar.subi v1690 v1687
  let c1_i32_1196 : BitVec 32 := 1#32
  let v1807 : BitVec 32 := Scalar.divsi v1805 c1_i32_1196
  let v1808 : BitVec 32 := Scalar.muli v1807 c1_i32_1196
  let v1809 : BitVec 32 := Scalar.addi v1687 v1808
  let v1806 : BitVec 32 := Scalar.addi v1687 v1805
  let c1_i32_1198 : BitVec 32 := 1#32
  ⟨v1809, v1806, c1_i32_1198⟩
def k1_off935 (i : grid1.Coords) (v486 : BitVec 32) (v491 : BitVec 32) (k1_t234 : Fin (k1_t234_loop i v486 v491).trips) : Fin 2 → Nat :=
  let c256_i32_1106 : BitVec 32 := 256#32
  let c0_i32_1105 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let c256_i32_1109 : BitVec 32 := 256#32
  let c0_i32_1108 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c768_i32_1107 : BitVec 32 := 768#32
  let v1688 : BitVec 32 := Scalar.subi v494 c768_i32_1107
  let v1689 : BitVec 32 := Scalar.maxsi c0_i32_1108 v1688
  let v1690 : BitVec 32 := Scalar.minsi c256_i32_1109 v1689
  let v1805 : BitVec 32 := Scalar.subi v1690 v1687
  let c1_i32_1196 : BitVec 32 := 1#32
  let v1807 : BitVec 32 := Scalar.divsi v1805 c1_i32_1196
  let v1808 : BitVec 32 := Scalar.muli v1807 c1_i32_1196
  let v1809 : BitVec 32 := Scalar.addi v1687 v1808
  let c1_i32_1198 : BitVec 32 := 1#32
  let arg13 : BitVec 32 := Scf.iv v1809 c1_i32_1198 k1_t234
  let v1828 : Index := Scalar.indexCast arg13
  let c0_1207 : Index := 0#32
  ![v1828.toNat, 0]
def k1_off936 (i : grid1.Coords) (v486 : BitVec 32) (v491 : BitVec 32) (k1_t234 : Fin (k1_t234_loop i v486 v491).trips) : Fin 2 → Nat :=
  let c256_i32_1106 : BitVec 32 := 256#32
  let c0_i32_1105 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let c256_i32_1109 : BitVec 32 := 256#32
  let c0_i32_1108 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c768_i32_1107 : BitVec 32 := 768#32
  let v1688 : BitVec 32 := Scalar.subi v494 c768_i32_1107
  let v1689 : BitVec 32 := Scalar.maxsi c0_i32_1108 v1688
  let v1690 : BitVec 32 := Scalar.minsi c256_i32_1109 v1689
  let v1805 : BitVec 32 := Scalar.subi v1690 v1687
  let c1_i32_1196 : BitVec 32 := 1#32
  let v1807 : BitVec 32 := Scalar.divsi v1805 c1_i32_1196
  let v1808 : BitVec 32 := Scalar.muli v1807 c1_i32_1196
  let v1809 : BitVec 32 := Scalar.addi v1687 v1808
  let c1_i32_1198 : BitVec 32 := 1#32
  let arg13 : BitVec 32 := Scf.iv v1809 c1_i32_1198 k1_t234
  let v1832 : Index := Scalar.indexCast arg13
  let c16_1208 : Index := 16#32
  ![v1832.toNat, 16]
def k1_off937 (i : grid1.Coords) (v486 : BitVec 32) (v491 : BitVec 32) (k1_t234 : Fin (k1_t234_loop i v486 v491).trips) : Fin 2 → Nat :=
  let c256_i32_1106 : BitVec 32 := 256#32
  let c0_i32_1105 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let c256_i32_1109 : BitVec 32 := 256#32
  let c0_i32_1108 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c768_i32_1107 : BitVec 32 := 768#32
  let v1688 : BitVec 32 := Scalar.subi v494 c768_i32_1107
  let v1689 : BitVec 32 := Scalar.maxsi c0_i32_1108 v1688
  let v1690 : BitVec 32 := Scalar.minsi c256_i32_1109 v1689
  let v1805 : BitVec 32 := Scalar.subi v1690 v1687
  let c1_i32_1196 : BitVec 32 := 1#32
  let v1807 : BitVec 32 := Scalar.divsi v1805 c1_i32_1196
  let v1808 : BitVec 32 := Scalar.muli v1807 c1_i32_1196
  let v1809 : BitVec 32 := Scalar.addi v1687 v1808
  let c1_i32_1198 : BitVec 32 := 1#32
  let arg13 : BitVec 32 := Scf.iv v1809 c1_i32_1198 k1_t234
  let v1836 : Index := Scalar.indexCast arg13
  let c32_1209 : Index := 32#32
  ![v1836.toNat, 32]
def k1_off938 (i : grid1.Coords) (v486 : BitVec 32) (v491 : BitVec 32) (k1_t234 : Fin (k1_t234_loop i v486 v491).trips) : Fin 2 → Nat :=
  let c256_i32_1106 : BitVec 32 := 256#32
  let c0_i32_1105 : BitVec 32 := 0#32
  let c1024_i32_212 : BitVec 32 := 1024#32
  let c0_i32_211 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v487 : BitVec 32 := Scalar.subi v486 v3
  let v488 : BitVec 32 := Scalar.maxsi c0_i32_211 v487
  let v489 : BitVec 32 := Scalar.minsi c1024_i32_212 v488
  let c768_i32_1104 : BitVec 32 := 768#32
  let v1685 : BitVec 32 := Scalar.subi v489 c768_i32_1104
  let v1686 : BitVec 32 := Scalar.maxsi c0_i32_1105 v1685
  let v1687 : BitVec 32 := Scalar.minsi c256_i32_1106 v1686
  let c256_i32_1109 : BitVec 32 := 256#32
  let c0_i32_1108 : BitVec 32 := 0#32
  let c1024_i32_214 : BitVec 32 := 1024#32
  let c0_i32_213 : BitVec 32 := 0#32
  let v492 : BitVec 32 := Scalar.subi v491 v3
  let v493 : BitVec 32 := Scalar.maxsi c0_i32_213 v492
  let v494 : BitVec 32 := Scalar.minsi c1024_i32_214 v493
  let c768_i32_1107 : BitVec 32 := 768#32
  let v1688 : BitVec 32 := Scalar.subi v494 c768_i32_1107
  let v1689 : BitVec 32 := Scalar.maxsi c0_i32_1108 v1688
  let v1690 : BitVec 32 := Scalar.minsi c256_i32_1109 v1689
  let v1805 : BitVec 32 := Scalar.subi v1690 v1687
  let c1_i32_1196 : BitVec 32 := 1#32
  let v1807 : BitVec 32 := Scalar.divsi v1805 c1_i32_1196
  let v1808 : BitVec 32 := Scalar.muli v1807 c1_i32_1196
  let v1809 : BitVec 32 := Scalar.addi v1687 v1808
  let c1_i32_1198 : BitVec 32 := 1#32
  let arg13 : BitVec 32 := Scf.iv v1809 c1_i32_1198 k1_t234
  let v1840 : Index := Scalar.indexCast arg13
  let c48_1210 : Index := 48#32
  ![v1840.toNat, 48]

def k1_chk21_0 (i : grid1.Coords) (v486 : BitVec 32) (v491 : BitVec 32) : Prop :=
  (∀ (k1_h21 : k1_cond21 i v486 v491 = 1#1), (k1_t41_loop i v486 v491).OK) ∧
  (∀ k1_t41 : Fin (k1_t41_loop i v486 v491).trips, ∀ (k1_h21 : k1_cond21 i v486 v491 = 1#1), ∀ a, (k1_off162 i v486 v491 k1_t41) a + S1x16.size a ≤ S256x128.size a) ∧
  (∀ k1_t41 : Fin (k1_t41_loop i v486 v491).trips, ∀ (k1_h21 : k1_cond21 i v486 v491 = 1#1), ∀ a, (k1_off163 i v486 v491 k1_t41) a + S1x16.size a ≤ S256x128.size a) ∧
  (∀ k1_t41 : Fin (k1_t41_loop i v486 v491).trips, ∀ (k1_h21 : k1_cond21 i v486 v491 = 1#1), ∀ a, (k1_off164 i v486 v491 k1_t41) a + S1x16.size a ≤ S256x128.size a) ∧
  (∀ k1_t41 : Fin (k1_t41_loop i v486 v491).trips, ∀ (k1_h21 : k1_cond21 i v486 v491 = 1#1), ∀ a, (k1_off165 i v486 v491 k1_t41) a + S1x16.size a ≤ S256x128.size a) ∧
  (∀ (k1_h21 : k1_cond21 i v486 v491 = 1#1), (k1_t42_loop i v486 v491).OK) ∧
  (∀ k1_t42 : Fin (k1_t42_loop i v486 v491).trips, ∀ (k1_h21 : k1_cond21 i v486 v491 = 1#1), ∀ a, (k1_off166 i v486 v491 k1_t42) a + S1x16.size a ≤ S256x128.size a) ∧
  (∀ k1_t42 : Fin (k1_t42_loop i v486 v491).trips, ∀ (k1_h21 : k1_cond21 i v486 v491 = 1#1), ∀ a, (k1_off167 i v486 v491 k1_t42) a + S1x16.size a ≤ S256x128.size a) ∧
  (∀ k1_t42 : Fin (k1_t42_loop i v486 v491).trips, ∀ (k1_h21 : k1_cond21 i v486 v491 = 1#1), ∀ a, (k1_off168 i v486 v491 k1_t42) a + S1x16.size a ≤ S256x128.size a) ∧
  (∀ k1_t42 : Fin (k1_t42_loop i v486 v491).trips, ∀ (k1_h21 : k1_cond21 i v486 v491 = 1#1), ∀ a, (k1_off169 i v486 v491 k1_t42) a + S1x16.size a ≤ S256x128.size a) ∧
  (∀ (k1_h53 : k1_cond53 i v486 v491 = 1#1), (k1_t105_loop i v486 v491).OK) ∧
  (∀ k1_t105 : Fin (k1_t105_loop i v486 v491).trips, ∀ (k1_h53 : k1_cond53 i v486 v491 = 1#1), ∀ a, (k1_off419 i v486 v491 k1_t105) a + S1x16.size a ≤ S256x128.size a) ∧
  (∀ k1_t105 : Fin (k1_t105_loop i v486 v491).trips, ∀ (k1_h53 : k1_cond53 i v486 v491 = 1#1), ∀ a, (k1_off420 i v486 v491 k1_t105) a + S1x16.size a ≤ S256x128.size a) ∧
  (∀ k1_t105 : Fin (k1_t105_loop i v486 v491).trips, ∀ (k1_h53 : k1_cond53 i v486 v491 = 1#1), ∀ a, (k1_off421 i v486 v491 k1_t105) a + S1x16.size a ≤ S256x128.size a) ∧
  (∀ k1_t105 : Fin (k1_t105_loop i v486 v491).trips, ∀ (k1_h53 : k1_cond53 i v486 v491 = 1#1), ∀ a, (k1_off422 i v486 v491 k1_t105) a + S1x16.size a ≤ S256x128.size a) ∧
  (∀ (k1_h53 : k1_cond53 i v486 v491 = 1#1), (k1_t106_loop i v486 v491).OK) ∧
  (∀ k1_t106 : Fin (k1_t106_loop i v486 v491).trips, ∀ (k1_h53 : k1_cond53 i v486 v491 = 1#1), ∀ a, (k1_off423 i v486 v491 k1_t106) a + S1x16.size a ≤ S256x128.size a) ∧
  (∀ k1_t106 : Fin (k1_t106_loop i v486 v491).trips, ∀ (k1_h53 : k1_cond53 i v486 v491 = 1#1), ∀ a, (k1_off424 i v486 v491 k1_t106) a + S1x16.size a ≤ S256x128.size a) ∧
  (∀ k1_t106 : Fin (k1_t106_loop i v486 v491).trips, ∀ (k1_h53 : k1_cond53 i v486 v491 = 1#1), ∀ a, (k1_off425 i v486 v491 k1_t106) a + S1x16.size a ≤ S256x128.size a) ∧
  (∀ k1_t106 : Fin (k1_t106_loop i v486 v491).trips, ∀ (k1_h53 : k1_cond53 i v486 v491 = 1#1), ∀ a, (k1_off426 i v486 v491 k1_t106) a + S1x16.size a ≤ S256x128.size a) ∧
  (∀ (k1_h85 : k1_cond85 i v486 v491 = 1#1), (k1_t169_loop i v486 v491).OK) ∧
  (∀ k1_t169 : Fin (k1_t169_loop i v486 v491).trips, ∀ (k1_h85 : k1_cond85 i v486 v491 = 1#1), ∀ a, (k1_off675 i v486 v491 k1_t169) a + S1x16.size a ≤ S256x128.size a) ∧
  (∀ k1_t169 : Fin (k1_t169_loop i v486 v491).trips, ∀ (k1_h85 : k1_cond85 i v486 v491 = 1#1), ∀ a, (k1_off676 i v486 v491 k1_t169) a + S1x16.size a ≤ S256x128.size a) ∧
  (∀ k1_t169 : Fin (k1_t169_loop i v486 v491).trips, ∀ (k1_h85 : k1_cond85 i v486 v491 = 1#1), ∀ a, (k1_off677 i v486 v491 k1_t169) a + S1x16.size a ≤ S256x128.size a) ∧
  (∀ k1_t169 : Fin (k1_t169_loop i v486 v491).trips, ∀ (k1_h85 : k1_cond85 i v486 v491 = 1#1), ∀ a, (k1_off678 i v486 v491 k1_t169) a + S1x16.size a ≤ S256x128.size a) ∧
  (∀ (k1_h85 : k1_cond85 i v486 v491 = 1#1), (k1_t170_loop i v486 v491).OK) ∧
  (∀ k1_t170 : Fin (k1_t170_loop i v486 v491).trips, ∀ (k1_h85 : k1_cond85 i v486 v491 = 1#1), ∀ a, (k1_off679 i v486 v491 k1_t170) a + S1x16.size a ≤ S256x128.size a) ∧
  (∀ k1_t170 : Fin (k1_t170_loop i v486 v491).trips, ∀ (k1_h85 : k1_cond85 i v486 v491 = 1#1), ∀ a, (k1_off680 i v486 v491 k1_t170) a + S1x16.size a ≤ S256x128.size a) ∧
  (∀ k1_t170 : Fin (k1_t170_loop i v486 v491).trips, ∀ (k1_h85 : k1_cond85 i v486 v491 = 1#1), ∀ a, (k1_off681 i v486 v491 k1_t170) a + S1x16.size a ≤ S256x128.size a) ∧
  (∀ k1_t170 : Fin (k1_t170_loop i v486 v491).trips, ∀ (k1_h85 : k1_cond85 i v486 v491 = 1#1), ∀ a, (k1_off682 i v486 v491 k1_t170) a + S1x16.size a ≤ S256x128.size a) ∧
  (∀ (k1_h117 : k1_cond117 i v486 v491 = 1#1), (k1_t233_loop i v486 v491).OK) ∧
  (∀ k1_t233 : Fin (k1_t233_loop i v486 v491).trips, ∀ (k1_h117 : k1_cond117 i v486 v491 = 1#1), ∀ a, (k1_off931 i v486 v491 k1_t233) a + S1x16.size a ≤ S256x128.size a)
def k1_chk21_1 (i : grid1.Coords) (v486 : BitVec 32) (v491 : BitVec 32) : Prop :=
  (∀ k1_t233 : Fin (k1_t233_loop i v486 v491).trips, ∀ (k1_h117 : k1_cond117 i v486 v491 = 1#1), ∀ a, (k1_off932 i v486 v491 k1_t233) a + S1x16.size a ≤ S256x128.size a) ∧
  (∀ k1_t233 : Fin (k1_t233_loop i v486 v491).trips, ∀ (k1_h117 : k1_cond117 i v486 v491 = 1#1), ∀ a, (k1_off933 i v486 v491 k1_t233) a + S1x16.size a ≤ S256x128.size a) ∧
  (∀ k1_t233 : Fin (k1_t233_loop i v486 v491).trips, ∀ (k1_h117 : k1_cond117 i v486 v491 = 1#1), ∀ a, (k1_off934 i v486 v491 k1_t233) a + S1x16.size a ≤ S256x128.size a) ∧
  (∀ (k1_h117 : k1_cond117 i v486 v491 = 1#1), (k1_t234_loop i v486 v491).OK) ∧
  (∀ k1_t234 : Fin (k1_t234_loop i v486 v491).trips, ∀ (k1_h117 : k1_cond117 i v486 v491 = 1#1), ∀ a, (k1_off935 i v486 v491 k1_t234) a + S1x16.size a ≤ S256x128.size a) ∧
  (∀ k1_t234 : Fin (k1_t234_loop i v486 v491).trips, ∀ (k1_h117 : k1_cond117 i v486 v491 = 1#1), ∀ a, (k1_off936 i v486 v491 k1_t234) a + S1x16.size a ≤ S256x128.size a) ∧
  (∀ k1_t234 : Fin (k1_t234_loop i v486 v491).trips, ∀ (k1_h117 : k1_cond117 i v486 v491 = 1#1), ∀ a, (k1_off937 i v486 v491 k1_t234) a + S1x16.size a ≤ S256x128.size a) ∧
  (∀ k1_t234 : Fin (k1_t234_loop i v486 v491).trips, ∀ (k1_h117 : k1_cond117 i v486 v491 = 1#1), ∀ a, (k1_off938 i v486 v491 k1_t234) a + S1x16.size a ≤ S256x128.size a)
def k1_chk21 (i : grid1.Coords) (v486 : BitVec 32) (v491 : BitVec 32) : Prop :=
  k1_chk21_0 i v486 v491 ∧
  k1_chk21_1 i v486 v491
theorem k1_t41_ok : ∀ (i : grid1.Coords) (v486 : BitVec 32) (v491 : BitVec 32) (k1_hw21 : k1_chk21 i v486 v491), ∀ (k1_h21 : k1_cond21 i v486 v491 = 1#1), (k1_t41_loop i v486 v491).OK := fun i v486 v491 k1_hw21 k1_h21 => k1_hw21.1.1 k1_h21
theorem k1_off162_inb : ∀ (i : grid1.Coords) (v486 : BitVec 32) (v491 : BitVec 32) (k1_hw21 : k1_chk21 i v486 v491) (k1_t41 : Fin (k1_t41_loop i v486 v491).trips), ∀ (k1_h21 : k1_cond21 i v486 v491 = 1#1), ∀ a, (k1_off162 i v486 v491 k1_t41) a + S1x16.size a ≤ S256x128.size a := fun i v486 v491 k1_hw21 k1_t41 k1_h21 => k1_hw21.1.2.1 k1_t41 k1_h21
theorem k1_off163_inb : ∀ (i : grid1.Coords) (v486 : BitVec 32) (v491 : BitVec 32) (k1_hw21 : k1_chk21 i v486 v491) (k1_t41 : Fin (k1_t41_loop i v486 v491).trips), ∀ (k1_h21 : k1_cond21 i v486 v491 = 1#1), ∀ a, (k1_off163 i v486 v491 k1_t41) a + S1x16.size a ≤ S256x128.size a := fun i v486 v491 k1_hw21 k1_t41 k1_h21 => k1_hw21.1.2.2.1 k1_t41 k1_h21
theorem k1_off164_inb : ∀ (i : grid1.Coords) (v486 : BitVec 32) (v491 : BitVec 32) (k1_hw21 : k1_chk21 i v486 v491) (k1_t41 : Fin (k1_t41_loop i v486 v491).trips), ∀ (k1_h21 : k1_cond21 i v486 v491 = 1#1), ∀ a, (k1_off164 i v486 v491 k1_t41) a + S1x16.size a ≤ S256x128.size a := fun i v486 v491 k1_hw21 k1_t41 k1_h21 => k1_hw21.1.2.2.2.1 k1_t41 k1_h21
theorem k1_off165_inb : ∀ (i : grid1.Coords) (v486 : BitVec 32) (v491 : BitVec 32) (k1_hw21 : k1_chk21 i v486 v491) (k1_t41 : Fin (k1_t41_loop i v486 v491).trips), ∀ (k1_h21 : k1_cond21 i v486 v491 = 1#1), ∀ a, (k1_off165 i v486 v491 k1_t41) a + S1x16.size a ≤ S256x128.size a := fun i v486 v491 k1_hw21 k1_t41 k1_h21 => k1_hw21.1.2.2.2.2.1 k1_t41 k1_h21
theorem k1_t42_ok : ∀ (i : grid1.Coords) (v486 : BitVec 32) (v491 : BitVec 32) (k1_hw21 : k1_chk21 i v486 v491), ∀ (k1_h21 : k1_cond21 i v486 v491 = 1#1), (k1_t42_loop i v486 v491).OK := fun i v486 v491 k1_hw21 k1_h21 => k1_hw21.1.2.2.2.2.2.1 k1_h21
theorem k1_off166_inb : ∀ (i : grid1.Coords) (v486 : BitVec 32) (v491 : BitVec 32) (k1_hw21 : k1_chk21 i v486 v491) (k1_t42 : Fin (k1_t42_loop i v486 v491).trips), ∀ (k1_h21 : k1_cond21 i v486 v491 = 1#1), ∀ a, (k1_off166 i v486 v491 k1_t42) a + S1x16.size a ≤ S256x128.size a := fun i v486 v491 k1_hw21 k1_t42 k1_h21 => k1_hw21.1.2.2.2.2.2.2.1 k1_t42 k1_h21
theorem k1_off167_inb : ∀ (i : grid1.Coords) (v486 : BitVec 32) (v491 : BitVec 32) (k1_hw21 : k1_chk21 i v486 v491) (k1_t42 : Fin (k1_t42_loop i v486 v491).trips), ∀ (k1_h21 : k1_cond21 i v486 v491 = 1#1), ∀ a, (k1_off167 i v486 v491 k1_t42) a + S1x16.size a ≤ S256x128.size a := fun i v486 v491 k1_hw21 k1_t42 k1_h21 => k1_hw21.1.2.2.2.2.2.2.2.1 k1_t42 k1_h21
theorem k1_off168_inb : ∀ (i : grid1.Coords) (v486 : BitVec 32) (v491 : BitVec 32) (k1_hw21 : k1_chk21 i v486 v491) (k1_t42 : Fin (k1_t42_loop i v486 v491).trips), ∀ (k1_h21 : k1_cond21 i v486 v491 = 1#1), ∀ a, (k1_off168 i v486 v491 k1_t42) a + S1x16.size a ≤ S256x128.size a := fun i v486 v491 k1_hw21 k1_t42 k1_h21 => k1_hw21.1.2.2.2.2.2.2.2.2.1 k1_t42 k1_h21
theorem k1_off169_inb : ∀ (i : grid1.Coords) (v486 : BitVec 32) (v491 : BitVec 32) (k1_hw21 : k1_chk21 i v486 v491) (k1_t42 : Fin (k1_t42_loop i v486 v491).trips), ∀ (k1_h21 : k1_cond21 i v486 v491 = 1#1), ∀ a, (k1_off169 i v486 v491 k1_t42) a + S1x16.size a ≤ S256x128.size a := fun i v486 v491 k1_hw21 k1_t42 k1_h21 => k1_hw21.1.2.2.2.2.2.2.2.2.2.1 k1_t42 k1_h21
theorem k1_t105_ok : ∀ (i : grid1.Coords) (v486 : BitVec 32) (v491 : BitVec 32) (k1_hw21 : k1_chk21 i v486 v491), ∀ (k1_h53 : k1_cond53 i v486 v491 = 1#1), (k1_t105_loop i v486 v491).OK := fun i v486 v491 k1_hw21 k1_h53 => k1_hw21.1.2.2.2.2.2.2.2.2.2.2.1 k1_h53
theorem k1_off419_inb : ∀ (i : grid1.Coords) (v486 : BitVec 32) (v491 : BitVec 32) (k1_hw21 : k1_chk21 i v486 v491) (k1_t105 : Fin (k1_t105_loop i v486 v491).trips), ∀ (k1_h53 : k1_cond53 i v486 v491 = 1#1), ∀ a, (k1_off419 i v486 v491 k1_t105) a + S1x16.size a ≤ S256x128.size a := fun i v486 v491 k1_hw21 k1_t105 k1_h53 => k1_hw21.1.2.2.2.2.2.2.2.2.2.2.2.1 k1_t105 k1_h53
theorem k1_off420_inb : ∀ (i : grid1.Coords) (v486 : BitVec 32) (v491 : BitVec 32) (k1_hw21 : k1_chk21 i v486 v491) (k1_t105 : Fin (k1_t105_loop i v486 v491).trips), ∀ (k1_h53 : k1_cond53 i v486 v491 = 1#1), ∀ a, (k1_off420 i v486 v491 k1_t105) a + S1x16.size a ≤ S256x128.size a := fun i v486 v491 k1_hw21 k1_t105 k1_h53 => k1_hw21.1.2.2.2.2.2.2.2.2.2.2.2.2.1 k1_t105 k1_h53
theorem k1_off421_inb : ∀ (i : grid1.Coords) (v486 : BitVec 32) (v491 : BitVec 32) (k1_hw21 : k1_chk21 i v486 v491) (k1_t105 : Fin (k1_t105_loop i v486 v491).trips), ∀ (k1_h53 : k1_cond53 i v486 v491 = 1#1), ∀ a, (k1_off421 i v486 v491 k1_t105) a + S1x16.size a ≤ S256x128.size a := fun i v486 v491 k1_hw21 k1_t105 k1_h53 => k1_hw21.1.2.2.2.2.2.2.2.2.2.2.2.2.2.1 k1_t105 k1_h53
theorem k1_off422_inb : ∀ (i : grid1.Coords) (v486 : BitVec 32) (v491 : BitVec 32) (k1_hw21 : k1_chk21 i v486 v491) (k1_t105 : Fin (k1_t105_loop i v486 v491).trips), ∀ (k1_h53 : k1_cond53 i v486 v491 = 1#1), ∀ a, (k1_off422 i v486 v491 k1_t105) a + S1x16.size a ≤ S256x128.size a := fun i v486 v491 k1_hw21 k1_t105 k1_h53 => k1_hw21.1.2.2.2.2.2.2.2.2.2.2.2.2.2.2.1 k1_t105 k1_h53
theorem k1_t106_ok : ∀ (i : grid1.Coords) (v486 : BitVec 32) (v491 : BitVec 32) (k1_hw21 : k1_chk21 i v486 v491), ∀ (k1_h53 : k1_cond53 i v486 v491 = 1#1), (k1_t106_loop i v486 v491).OK := fun i v486 v491 k1_hw21 k1_h53 => k1_hw21.1.2.2.2.2.2.2.2.2.2.2.2.2.2.2.2.1 k1_h53
theorem k1_off423_inb : ∀ (i : grid1.Coords) (v486 : BitVec 32) (v491 : BitVec 32) (k1_hw21 : k1_chk21 i v486 v491) (k1_t106 : Fin (k1_t106_loop i v486 v491).trips), ∀ (k1_h53 : k1_cond53 i v486 v491 = 1#1), ∀ a, (k1_off423 i v486 v491 k1_t106) a + S1x16.size a ≤ S256x128.size a := fun i v486 v491 k1_hw21 k1_t106 k1_h53 => k1_hw21.1.2.2.2.2.2.2.2.2.2.2.2.2.2.2.2.2.1 k1_t106 k1_h53
theorem k1_off424_inb : ∀ (i : grid1.Coords) (v486 : BitVec 32) (v491 : BitVec 32) (k1_hw21 : k1_chk21 i v486 v491) (k1_t106 : Fin (k1_t106_loop i v486 v491).trips), ∀ (k1_h53 : k1_cond53 i v486 v491 = 1#1), ∀ a, (k1_off424 i v486 v491 k1_t106) a + S1x16.size a ≤ S256x128.size a := fun i v486 v491 k1_hw21 k1_t106 k1_h53 => k1_hw21.1.2.2.2.2.2.2.2.2.2.2.2.2.2.2.2.2.2.1 k1_t106 k1_h53
theorem k1_off425_inb : ∀ (i : grid1.Coords) (v486 : BitVec 32) (v491 : BitVec 32) (k1_hw21 : k1_chk21 i v486 v491) (k1_t106 : Fin (k1_t106_loop i v486 v491).trips), ∀ (k1_h53 : k1_cond53 i v486 v491 = 1#1), ∀ a, (k1_off425 i v486 v491 k1_t106) a + S1x16.size a ≤ S256x128.size a := fun i v486 v491 k1_hw21 k1_t106 k1_h53 => k1_hw21.1.2.2.2.2.2.2.2.2.2.2.2.2.2.2.2.2.2.2.1 k1_t106 k1_h53
theorem k1_off426_inb : ∀ (i : grid1.Coords) (v486 : BitVec 32) (v491 : BitVec 32) (k1_hw21 : k1_chk21 i v486 v491) (k1_t106 : Fin (k1_t106_loop i v486 v491).trips), ∀ (k1_h53 : k1_cond53 i v486 v491 = 1#1), ∀ a, (k1_off426 i v486 v491 k1_t106) a + S1x16.size a ≤ S256x128.size a := fun i v486 v491 k1_hw21 k1_t106 k1_h53 => k1_hw21.1.2.2.2.2.2.2.2.2.2.2.2.2.2.2.2.2.2.2.2.1 k1_t106 k1_h53
theorem k1_t169_ok : ∀ (i : grid1.Coords) (v486 : BitVec 32) (v491 : BitVec 32) (k1_hw21 : k1_chk21 i v486 v491), ∀ (k1_h85 : k1_cond85 i v486 v491 = 1#1), (k1_t169_loop i v486 v491).OK := fun i v486 v491 k1_hw21 k1_h85 => k1_hw21.1.2.2.2.2.2.2.2.2.2.2.2.2.2.2.2.2.2.2.2.2.1 k1_h85
theorem k1_off675_inb : ∀ (i : grid1.Coords) (v486 : BitVec 32) (v491 : BitVec 32) (k1_hw21 : k1_chk21 i v486 v491) (k1_t169 : Fin (k1_t169_loop i v486 v491).trips), ∀ (k1_h85 : k1_cond85 i v486 v491 = 1#1), ∀ a, (k1_off675 i v486 v491 k1_t169) a + S1x16.size a ≤ S256x128.size a := fun i v486 v491 k1_hw21 k1_t169 k1_h85 => k1_hw21.1.2.2.2.2.2.2.2.2.2.2.2.2.2.2.2.2.2.2.2.2.2.1 k1_t169 k1_h85
theorem k1_off676_inb : ∀ (i : grid1.Coords) (v486 : BitVec 32) (v491 : BitVec 32) (k1_hw21 : k1_chk21 i v486 v491) (k1_t169 : Fin (k1_t169_loop i v486 v491).trips), ∀ (k1_h85 : k1_cond85 i v486 v491 = 1#1), ∀ a, (k1_off676 i v486 v491 k1_t169) a + S1x16.size a ≤ S256x128.size a := fun i v486 v491 k1_hw21 k1_t169 k1_h85 => k1_hw21.1.2.2.2.2.2.2.2.2.2.2.2.2.2.2.2.2.2.2.2.2.2.2.1 k1_t169 k1_h85
theorem k1_off677_inb : ∀ (i : grid1.Coords) (v486 : BitVec 32) (v491 : BitVec 32) (k1_hw21 : k1_chk21 i v486 v491) (k1_t169 : Fin (k1_t169_loop i v486 v491).trips), ∀ (k1_h85 : k1_cond85 i v486 v491 = 1#1), ∀ a, (k1_off677 i v486 v491 k1_t169) a + S1x16.size a ≤ S256x128.size a := fun i v486 v491 k1_hw21 k1_t169 k1_h85 => k1_hw21.1.2.2.2.2.2.2.2.2.2.2.2.2.2.2.2.2.2.2.2.2.2.2.2.1 k1_t169 k1_h85
theorem k1_off678_inb : ∀ (i : grid1.Coords) (v486 : BitVec 32) (v491 : BitVec 32) (k1_hw21 : k1_chk21 i v486 v491) (k1_t169 : Fin (k1_t169_loop i v486 v491).trips), ∀ (k1_h85 : k1_cond85 i v486 v491 = 1#1), ∀ a, (k1_off678 i v486 v491 k1_t169) a + S1x16.size a ≤ S256x128.size a := fun i v486 v491 k1_hw21 k1_t169 k1_h85 => k1_hw21.1.2.2.2.2.2.2.2.2.2.2.2.2.2.2.2.2.2.2.2.2.2.2.2.2.1 k1_t169 k1_h85
theorem k1_t170_ok : ∀ (i : grid1.Coords) (v486 : BitVec 32) (v491 : BitVec 32) (k1_hw21 : k1_chk21 i v486 v491), ∀ (k1_h85 : k1_cond85 i v486 v491 = 1#1), (k1_t170_loop i v486 v491).OK := fun i v486 v491 k1_hw21 k1_h85 => k1_hw21.1.2.2.2.2.2.2.2.2.2.2.2.2.2.2.2.2.2.2.2.2.2.2.2.2.2.1 k1_h85
theorem k1_off679_inb : ∀ (i : grid1.Coords) (v486 : BitVec 32) (v491 : BitVec 32) (k1_hw21 : k1_chk21 i v486 v491) (k1_t170 : Fin (k1_t170_loop i v486 v491).trips), ∀ (k1_h85 : k1_cond85 i v486 v491 = 1#1), ∀ a, (k1_off679 i v486 v491 k1_t170) a + S1x16.size a ≤ S256x128.size a := fun i v486 v491 k1_hw21 k1_t170 k1_h85 => k1_hw21.1.2.2.2.2.2.2.2.2.2.2.2.2.2.2.2.2.2.2.2.2.2.2.2.2.2.2.1 k1_t170 k1_h85
theorem k1_off680_inb : ∀ (i : grid1.Coords) (v486 : BitVec 32) (v491 : BitVec 32) (k1_hw21 : k1_chk21 i v486 v491) (k1_t170 : Fin (k1_t170_loop i v486 v491).trips), ∀ (k1_h85 : k1_cond85 i v486 v491 = 1#1), ∀ a, (k1_off680 i v486 v491 k1_t170) a + S1x16.size a ≤ S256x128.size a := fun i v486 v491 k1_hw21 k1_t170 k1_h85 => k1_hw21.1.2.2.2.2.2.2.2.2.2.2.2.2.2.2.2.2.2.2.2.2.2.2.2.2.2.2.2.1 k1_t170 k1_h85
theorem k1_off681_inb : ∀ (i : grid1.Coords) (v486 : BitVec 32) (v491 : BitVec 32) (k1_hw21 : k1_chk21 i v486 v491) (k1_t170 : Fin (k1_t170_loop i v486 v491).trips), ∀ (k1_h85 : k1_cond85 i v486 v491 = 1#1), ∀ a, (k1_off681 i v486 v491 k1_t170) a + S1x16.size a ≤ S256x128.size a := fun i v486 v491 k1_hw21 k1_t170 k1_h85 => k1_hw21.1.2.2.2.2.2.2.2.2.2.2.2.2.2.2.2.2.2.2.2.2.2.2.2.2.2.2.2.2.1 k1_t170 k1_h85
theorem k1_off682_inb : ∀ (i : grid1.Coords) (v486 : BitVec 32) (v491 : BitVec 32) (k1_hw21 : k1_chk21 i v486 v491) (k1_t170 : Fin (k1_t170_loop i v486 v491).trips), ∀ (k1_h85 : k1_cond85 i v486 v491 = 1#1), ∀ a, (k1_off682 i v486 v491 k1_t170) a + S1x16.size a ≤ S256x128.size a := fun i v486 v491 k1_hw21 k1_t170 k1_h85 => k1_hw21.1.2.2.2.2.2.2.2.2.2.2.2.2.2.2.2.2.2.2.2.2.2.2.2.2.2.2.2.2.2.1 k1_t170 k1_h85
theorem k1_t233_ok : ∀ (i : grid1.Coords) (v486 : BitVec 32) (v491 : BitVec 32) (k1_hw21 : k1_chk21 i v486 v491), ∀ (k1_h117 : k1_cond117 i v486 v491 = 1#1), (k1_t233_loop i v486 v491).OK := fun i v486 v491 k1_hw21 k1_h117 => k1_hw21.1.2.2.2.2.2.2.2.2.2.2.2.2.2.2.2.2.2.2.2.2.2.2.2.2.2.2.2.2.2.2.1 k1_h117
theorem k1_off931_inb : ∀ (i : grid1.Coords) (v486 : BitVec 32) (v491 : BitVec 32) (k1_hw21 : k1_chk21 i v486 v491) (k1_t233 : Fin (k1_t233_loop i v486 v491).trips), ∀ (k1_h117 : k1_cond117 i v486 v491 = 1#1), ∀ a, (k1_off931 i v486 v491 k1_t233) a + S1x16.size a ≤ S256x128.size a := fun i v486 v491 k1_hw21 k1_t233 k1_h117 => k1_hw21.1.2.2.2.2.2.2.2.2.2.2.2.2.2.2.2.2.2.2.2.2.2.2.2.2.2.2.2.2.2.2.2 k1_t233 k1_h117
theorem k1_off932_inb : ∀ (i : grid1.Coords) (v486 : BitVec 32) (v491 : BitVec 32) (k1_hw21 : k1_chk21 i v486 v491) (k1_t233 : Fin (k1_t233_loop i v486 v491).trips), ∀ (k1_h117 : k1_cond117 i v486 v491 = 1#1), ∀ a, (k1_off932 i v486 v491 k1_t233) a + S1x16.size a ≤ S256x128.size a := fun i v486 v491 k1_hw21 k1_t233 k1_h117 => k1_hw21.2.1 k1_t233 k1_h117
theorem k1_off933_inb : ∀ (i : grid1.Coords) (v486 : BitVec 32) (v491 : BitVec 32) (k1_hw21 : k1_chk21 i v486 v491) (k1_t233 : Fin (k1_t233_loop i v486 v491).trips), ∀ (k1_h117 : k1_cond117 i v486 v491 = 1#1), ∀ a, (k1_off933 i v486 v491 k1_t233) a + S1x16.size a ≤ S256x128.size a := fun i v486 v491 k1_hw21 k1_t233 k1_h117 => k1_hw21.2.2.1 k1_t233 k1_h117
theorem k1_off934_inb : ∀ (i : grid1.Coords) (v486 : BitVec 32) (v491 : BitVec 32) (k1_hw21 : k1_chk21 i v486 v491) (k1_t233 : Fin (k1_t233_loop i v486 v491).trips), ∀ (k1_h117 : k1_cond117 i v486 v491 = 1#1), ∀ a, (k1_off934 i v486 v491 k1_t233) a + S1x16.size a ≤ S256x128.size a := fun i v486 v491 k1_hw21 k1_t233 k1_h117 => k1_hw21.2.2.2.1 k1_t233 k1_h117
theorem k1_t234_ok : ∀ (i : grid1.Coords) (v486 : BitVec 32) (v491 : BitVec 32) (k1_hw21 : k1_chk21 i v486 v491), ∀ (k1_h117 : k1_cond117 i v486 v491 = 1#1), (k1_t234_loop i v486 v491).OK := fun i v486 v491 k1_hw21 k1_h117 => k1_hw21.2.2.2.2.1 k1_h117
theorem k1_off935_inb : ∀ (i : grid1.Coords) (v486 : BitVec 32) (v491 : BitVec 32) (k1_hw21 : k1_chk21 i v486 v491) (k1_t234 : Fin (k1_t234_loop i v486 v491).trips), ∀ (k1_h117 : k1_cond117 i v486 v491 = 1#1), ∀ a, (k1_off935 i v486 v491 k1_t234) a + S1x16.size a ≤ S256x128.size a := fun i v486 v491 k1_hw21 k1_t234 k1_h117 => k1_hw21.2.2.2.2.2.1 k1_t234 k1_h117
theorem k1_off936_inb : ∀ (i : grid1.Coords) (v486 : BitVec 32) (v491 : BitVec 32) (k1_hw21 : k1_chk21 i v486 v491) (k1_t234 : Fin (k1_t234_loop i v486 v491).trips), ∀ (k1_h117 : k1_cond117 i v486 v491 = 1#1), ∀ a, (k1_off936 i v486 v491 k1_t234) a + S1x16.size a ≤ S256x128.size a := fun i v486 v491 k1_hw21 k1_t234 k1_h117 => k1_hw21.2.2.2.2.2.2.1 k1_t234 k1_h117
theorem k1_off937_inb : ∀ (i : grid1.Coords) (v486 : BitVec 32) (v491 : BitVec 32) (k1_hw21 : k1_chk21 i v486 v491) (k1_t234 : Fin (k1_t234_loop i v486 v491).trips), ∀ (k1_h117 : k1_cond117 i v486 v491 = 1#1), ∀ a, (k1_off937 i v486 v491 k1_t234) a + S1x16.size a ≤ S256x128.size a := fun i v486 v491 k1_hw21 k1_t234 k1_h117 => k1_hw21.2.2.2.2.2.2.2.1 k1_t234 k1_h117
theorem k1_off938_inb : ∀ (i : grid1.Coords) (v486 : BitVec 32) (v491 : BitVec 32) (k1_hw21 : k1_chk21 i v486 v491) (k1_t234 : Fin (k1_t234_loop i v486 v491).trips), ∀ (k1_h117 : k1_cond117 i v486 v491 = 1#1), ∀ a, (k1_off938 i v486 v491 k1_t234) a + S1x16.size a ≤ S256x128.size a := fun i v486 v491 k1_hw21 k1_t234 k1_h117 => k1_hw21.2.2.2.2.2.2.2.2 k1_t234 k1_h117

@[reducible] def k1_t235_loop (i : grid1.Coords) (v496 : BitVec 32) (v502 : BitVec 32) : Scf.Loop 32 :=
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let c256_i32_1116 : BitVec 32 := 256#32
  let c0_i32_1115 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c768_i32_1114 : BitVec 32 := 768#32
  let v1697 : BitVec 32 := Scalar.subi v506 c768_i32_1114
  let v1698 : BitVec 32 := Scalar.maxsi c0_i32_1115 v1697
  let v1699 : BitVec 32 := Scalar.minsi c256_i32_1116 v1698
  let v1805 : BitVec 32 := Scalar.subi v1699 v1696
  let c1_i32_1196 : BitVec 32 := 1#32
  let v1807 : BitVec 32 := Scalar.divsi v1805 c1_i32_1196
  let v1808 : BitVec 32 := Scalar.muli v1807 c1_i32_1196
  let v1809 : BitVec 32 := Scalar.addi v1696 v1808
  let c1_i32_1197 : BitVec 32 := 1#32
  ⟨v1696, v1809, c1_i32_1197⟩
def k1_cond118 (i : grid1.Coords) (v496 : BitVec 32) (v502 : BitVec 32) : BitVec 1 :=
  let c256_i32_1116 : BitVec 32 := 256#32
  let c0_i32_1115 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v504 : BitVec 32 := Scalar.subi v503 v3
  let v505 : BitVec 32 := Scalar.maxsi c0_i32_219 v504
  let v506 : BitVec 32 := Scalar.minsi c1024_i32_220 v505
  let c768_i32_1114 : BitVec 32 := 768#32
  let v1697 : BitVec 32 := Scalar.subi v506 c768_i32_1114
  let v1698 : BitVec 32 := Scalar.maxsi c0_i32_1115 v1697
  let v1699 : BitVec 32 := Scalar.minsi c256_i32_1116 v1698
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let v1700 : BitVec 1 := Scalar.cmpi .sgt v1699 v1696
  let v1701 : BitVec 32 := Scalar.extui v1700
  let c0_i32_1117 : BitVec 32 := 0#32
  let v1702 : BitVec 1 := Scalar.cmpi .ne v1701 c0_i32_1117
  v1702

def k1_off939 (i : grid1.Coords) (v496 : BitVec 32) (v502 : BitVec 32) (k1_t235 : Fin (k1_t235_loop i v496 v502).trips) : Fin 2 → Nat :=
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let c1_i32_1197 : BitVec 32 := 1#32
  let arg13 : BitVec 32 := Scf.iv v1696 c1_i32_1197 k1_t235
  let v1828 : Index := Scalar.indexCast arg13
  let c64 : Index := 64#32
  ![v1828.toNat, 64]
def k1_off940 (i : grid1.Coords) (v496 : BitVec 32) (v502 : BitVec 32) (k1_t235 : Fin (k1_t235_loop i v496 v502).trips) : Fin 2 → Nat :=
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let c1_i32_1197 : BitVec 32 := 1#32
  let arg13 : BitVec 32 := Scf.iv v1696 c1_i32_1197 k1_t235
  let v1832 : Index := Scalar.indexCast arg13
  let c80 : Index := 80#32
  ![v1832.toNat, 80]
def k1_off941 (i : grid1.Coords) (v496 : BitVec 32) (v502 : BitVec 32) (k1_t235 : Fin (k1_t235_loop i v496 v502).trips) : Fin 2 → Nat :=
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let c1_i32_1197 : BitVec 32 := 1#32
  let arg13 : BitVec 32 := Scf.iv v1696 c1_i32_1197 k1_t235
  let v1836 : Index := Scalar.indexCast arg13
  let c96 : Index := 96#32
  ![v1836.toNat, 96]
def k1_off942 (i : grid1.Coords) (v496 : BitVec 32) (v502 : BitVec 32) (k1_t235 : Fin (k1_t235_loop i v496 v502).trips) : Fin 2 → Nat :=
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let c1_i32_1197 : BitVec 32 := 1#32
  let arg13 : BitVec 32 := Scf.iv v1696 c1_i32_1197 k1_t235
  let v1840 : Index := Scalar.indexCast arg13
  let c112 : Index := 112#32
  ![v1840.toNat, 112]
@[reducible] def k1_t236_loop (i : grid1.Coords) (v496 : BitVec 32) (v502 : BitVec 32) : Scf.Loop 32 :=
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let c256_i32_1116 : BitVec 32 := 256#32
  let c0_i32_1115 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c768_i32_1114 : BitVec 32 := 768#32
  let v1697 : BitVec 32 := Scalar.subi v506 c768_i32_1114
  let v1698 : BitVec 32 := Scalar.maxsi c0_i32_1115 v1697
  let v1699 : BitVec 32 := Scalar.minsi c256_i32_1116 v1698
  let v1805 : BitVec 32 := Scalar.subi v1699 v1696
  let c1_i32_1196 : BitVec 32 := 1#32
  let v1807 : BitVec 32 := Scalar.divsi v1805 c1_i32_1196
  let v1808 : BitVec 32 := Scalar.muli v1807 c1_i32_1196
  let v1809 : BitVec 32 := Scalar.addi v1696 v1808
  let v1806 : BitVec 32 := Scalar.addi v1696 v1805
  let c1_i32_1198 : BitVec 32 := 1#32
  ⟨v1809, v1806, c1_i32_1198⟩
def k1_off943 (i : grid1.Coords) (v496 : BitVec 32) (v502 : BitVec 32) (k1_t236 : Fin (k1_t236_loop i v496 v502).trips) : Fin 2 → Nat :=
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let c256_i32_1116 : BitVec 32 := 256#32
  let c0_i32_1115 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c768_i32_1114 : BitVec 32 := 768#32
  let v1697 : BitVec 32 := Scalar.subi v506 c768_i32_1114
  let v1698 : BitVec 32 := Scalar.maxsi c0_i32_1115 v1697
  let v1699 : BitVec 32 := Scalar.minsi c256_i32_1116 v1698
  let v1805 : BitVec 32 := Scalar.subi v1699 v1696
  let c1_i32_1196 : BitVec 32 := 1#32
  let v1807 : BitVec 32 := Scalar.divsi v1805 c1_i32_1196
  let v1808 : BitVec 32 := Scalar.muli v1807 c1_i32_1196
  let v1809 : BitVec 32 := Scalar.addi v1696 v1808
  let c1_i32_1198 : BitVec 32 := 1#32
  let arg13 : BitVec 32 := Scf.iv v1809 c1_i32_1198 k1_t236
  let v1828 : Index := Scalar.indexCast arg13
  let c64 : Index := 64#32
  ![v1828.toNat, 64]
def k1_off944 (i : grid1.Coords) (v496 : BitVec 32) (v502 : BitVec 32) (k1_t236 : Fin (k1_t236_loop i v496 v502).trips) : Fin 2 → Nat :=
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let c256_i32_1116 : BitVec 32 := 256#32
  let c0_i32_1115 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c768_i32_1114 : BitVec 32 := 768#32
  let v1697 : BitVec 32 := Scalar.subi v506 c768_i32_1114
  let v1698 : BitVec 32 := Scalar.maxsi c0_i32_1115 v1697
  let v1699 : BitVec 32 := Scalar.minsi c256_i32_1116 v1698
  let v1805 : BitVec 32 := Scalar.subi v1699 v1696
  let c1_i32_1196 : BitVec 32 := 1#32
  let v1807 : BitVec 32 := Scalar.divsi v1805 c1_i32_1196
  let v1808 : BitVec 32 := Scalar.muli v1807 c1_i32_1196
  let v1809 : BitVec 32 := Scalar.addi v1696 v1808
  let c1_i32_1198 : BitVec 32 := 1#32
  let arg13 : BitVec 32 := Scf.iv v1809 c1_i32_1198 k1_t236
  let v1832 : Index := Scalar.indexCast arg13
  let c80 : Index := 80#32
  ![v1832.toNat, 80]
def k1_off945 (i : grid1.Coords) (v496 : BitVec 32) (v502 : BitVec 32) (k1_t236 : Fin (k1_t236_loop i v496 v502).trips) : Fin 2 → Nat :=
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let c256_i32_1116 : BitVec 32 := 256#32
  let c0_i32_1115 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c768_i32_1114 : BitVec 32 := 768#32
  let v1697 : BitVec 32 := Scalar.subi v506 c768_i32_1114
  let v1698 : BitVec 32 := Scalar.maxsi c0_i32_1115 v1697
  let v1699 : BitVec 32 := Scalar.minsi c256_i32_1116 v1698
  let v1805 : BitVec 32 := Scalar.subi v1699 v1696
  let c1_i32_1196 : BitVec 32 := 1#32
  let v1807 : BitVec 32 := Scalar.divsi v1805 c1_i32_1196
  let v1808 : BitVec 32 := Scalar.muli v1807 c1_i32_1196
  let v1809 : BitVec 32 := Scalar.addi v1696 v1808
  let c1_i32_1198 : BitVec 32 := 1#32
  let arg13 : BitVec 32 := Scf.iv v1809 c1_i32_1198 k1_t236
  let v1836 : Index := Scalar.indexCast arg13
  let c96 : Index := 96#32
  ![v1836.toNat, 96]
def k1_off946 (i : grid1.Coords) (v496 : BitVec 32) (v502 : BitVec 32) (k1_t236 : Fin (k1_t236_loop i v496 v502).trips) : Fin 2 → Nat :=
  let c256_i32_1113 : BitVec 32 := 256#32
  let c0_i32_1112 : BitVec 32 := 0#32
  let c1024_i32_217 : BitVec 32 := 1024#32
  let c0_i32_216 : BitVec 32 := 0#32
  let c65536_i32_215 : BitVec 32 := 65536#32
  let v497 : BitVec 32 := Scalar.subi v496 c65536_i32_215
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v498 : BitVec 32 := Scalar.subi v497 v3
  let v499 : BitVec 32 := Scalar.maxsi c0_i32_216 v498
  let v500 : BitVec 32 := Scalar.minsi c1024_i32_217 v499
  let c768_i32_1111 : BitVec 32 := 768#32
  let v1694 : BitVec 32 := Scalar.subi v500 c768_i32_1111
  let v1695 : BitVec 32 := Scalar.maxsi c0_i32_1112 v1694
  let v1696 : BitVec 32 := Scalar.minsi c256_i32_1113 v1695
  let c256_i32_1116 : BitVec 32 := 256#32
  let c0_i32_1115 : BitVec 32 := 0#32
  let c1024_i32_220 : BitVec 32 := 1024#32
  let c0_i32_219 : BitVec 32 := 0#32
  let c65536_i32_218 : BitVec 32 := 65536#32
  let v503 : BitVec 32 := Scalar.subi v502 c65536_i32_218
  let v504 : BitVec 32 := Scalar.subi v503 v3
  let v505 : BitVec 32 := Scalar.maxsi c0_i32_219 v504
  let v506 : BitVec 32 := Scalar.minsi c1024_i32_220 v505
  let c768_i32_1114 : BitVec 32 := 768#32
  let v1697 : BitVec 32 := Scalar.subi v506 c768_i32_1114
  let v1698 : BitVec 32 := Scalar.maxsi c0_i32_1115 v1697
  let v1699 : BitVec 32 := Scalar.minsi c256_i32_1116 v1698
  let v1805 : BitVec 32 := Scalar.subi v1699 v1696
  let c1_i32_1196 : BitVec 32 := 1#32
  let v1807 : BitVec 32 := Scalar.divsi v1805 c1_i32_1196
  let v1808 : BitVec 32 := Scalar.muli v1807 c1_i32_1196
  let v1809 : BitVec 32 := Scalar.addi v1696 v1808
  let c1_i32_1198 : BitVec 32 := 1#32
  let arg13 : BitVec 32 := Scf.iv v1809 c1_i32_1198 k1_t236
  let v1840 : Index := Scalar.indexCast arg13
  let c112 : Index := 112#32
  ![v1840.toNat, 112]

def k1_chk22_0 (i : grid1.Coords) (v496 : BitVec 32) (v502 : BitVec 32) : Prop :=
  (∀ (k1_h22 : k1_cond22 i v496 v502 = 1#1), (k1_t43_loop i v496 v502).OK) ∧
  (∀ k1_t43 : Fin (k1_t43_loop i v496 v502).trips, ∀ (k1_h22 : k1_cond22 i v496 v502 = 1#1), ∀ a, (k1_off170 i v496 v502 k1_t43) a + S1x16.size a ≤ S256x128.size a) ∧
  (∀ k1_t43 : Fin (k1_t43_loop i v496 v502).trips, ∀ (k1_h22 : k1_cond22 i v496 v502 = 1#1), ∀ a, (k1_off171 i v496 v502 k1_t43) a + S1x16.size a ≤ S256x128.size a) ∧
  (∀ k1_t43 : Fin (k1_t43_loop i v496 v502).trips, ∀ (k1_h22 : k1_cond22 i v496 v502 = 1#1), ∀ a, (k1_off172 i v496 v502 k1_t43) a + S1x16.size a ≤ S256x128.size a) ∧
  (∀ k1_t43 : Fin (k1_t43_loop i v496 v502).trips, ∀ (k1_h22 : k1_cond22 i v496 v502 = 1#1), ∀ a, (k1_off173 i v496 v502 k1_t43) a + S1x16.size a ≤ S256x128.size a) ∧
  (∀ (k1_h22 : k1_cond22 i v496 v502 = 1#1), (k1_t44_loop i v496 v502).OK) ∧
  (∀ k1_t44 : Fin (k1_t44_loop i v496 v502).trips, ∀ (k1_h22 : k1_cond22 i v496 v502 = 1#1), ∀ a, (k1_off174 i v496 v502 k1_t44) a + S1x16.size a ≤ S256x128.size a) ∧
  (∀ k1_t44 : Fin (k1_t44_loop i v496 v502).trips, ∀ (k1_h22 : k1_cond22 i v496 v502 = 1#1), ∀ a, (k1_off175 i v496 v502 k1_t44) a + S1x16.size a ≤ S256x128.size a) ∧
  (∀ k1_t44 : Fin (k1_t44_loop i v496 v502).trips, ∀ (k1_h22 : k1_cond22 i v496 v502 = 1#1), ∀ a, (k1_off176 i v496 v502 k1_t44) a + S1x16.size a ≤ S256x128.size a) ∧
  (∀ k1_t44 : Fin (k1_t44_loop i v496 v502).trips, ∀ (k1_h22 : k1_cond22 i v496 v502 = 1#1), ∀ a, (k1_off177 i v496 v502 k1_t44) a + S1x16.size a ≤ S256x128.size a) ∧
  (∀ (k1_h54 : k1_cond54 i v496 v502 = 1#1), (k1_t107_loop i v496 v502).OK) ∧
  (∀ k1_t107 : Fin (k1_t107_loop i v496 v502).trips, ∀ (k1_h54 : k1_cond54 i v496 v502 = 1#1), ∀ a, (k1_off427 i v496 v502 k1_t107) a + S1x16.size a ≤ S256x128.size a) ∧
  (∀ k1_t107 : Fin (k1_t107_loop i v496 v502).trips, ∀ (k1_h54 : k1_cond54 i v496 v502 = 1#1), ∀ a, (k1_off428 i v496 v502 k1_t107) a + S1x16.size a ≤ S256x128.size a) ∧
  (∀ k1_t107 : Fin (k1_t107_loop i v496 v502).trips, ∀ (k1_h54 : k1_cond54 i v496 v502 = 1#1), ∀ a, (k1_off429 i v496 v502 k1_t107) a + S1x16.size a ≤ S256x128.size a) ∧
  (∀ k1_t107 : Fin (k1_t107_loop i v496 v502).trips, ∀ (k1_h54 : k1_cond54 i v496 v502 = 1#1), ∀ a, (k1_off430 i v496 v502 k1_t107) a + S1x16.size a ≤ S256x128.size a) ∧
  (∀ (k1_h54 : k1_cond54 i v496 v502 = 1#1), (k1_t108_loop i v496 v502).OK) ∧
  (∀ k1_t108 : Fin (k1_t108_loop i v496 v502).trips, ∀ (k1_h54 : k1_cond54 i v496 v502 = 1#1), ∀ a, (k1_off431 i v496 v502 k1_t108) a + S1x16.size a ≤ S256x128.size a) ∧
  (∀ k1_t108 : Fin (k1_t108_loop i v496 v502).trips, ∀ (k1_h54 : k1_cond54 i v496 v502 = 1#1), ∀ a, (k1_off432 i v496 v502 k1_t108) a + S1x16.size a ≤ S256x128.size a) ∧
  (∀ k1_t108 : Fin (k1_t108_loop i v496 v502).trips, ∀ (k1_h54 : k1_cond54 i v496 v502 = 1#1), ∀ a, (k1_off433 i v496 v502 k1_t108) a + S1x16.size a ≤ S256x128.size a) ∧
  (∀ k1_t108 : Fin (k1_t108_loop i v496 v502).trips, ∀ (k1_h54 : k1_cond54 i v496 v502 = 1#1), ∀ a, (k1_off434 i v496 v502 k1_t108) a + S1x16.size a ≤ S256x128.size a) ∧
  (∀ (k1_h86 : k1_cond86 i v496 v502 = 1#1), (k1_t171_loop i v496 v502).OK) ∧
  (∀ k1_t171 : Fin (k1_t171_loop i v496 v502).trips, ∀ (k1_h86 : k1_cond86 i v496 v502 = 1#1), ∀ a, (k1_off683 i v496 v502 k1_t171) a + S1x16.size a ≤ S256x128.size a) ∧
  (∀ k1_t171 : Fin (k1_t171_loop i v496 v502).trips, ∀ (k1_h86 : k1_cond86 i v496 v502 = 1#1), ∀ a, (k1_off684 i v496 v502 k1_t171) a + S1x16.size a ≤ S256x128.size a) ∧
  (∀ k1_t171 : Fin (k1_t171_loop i v496 v502).trips, ∀ (k1_h86 : k1_cond86 i v496 v502 = 1#1), ∀ a, (k1_off685 i v496 v502 k1_t171) a + S1x16.size a ≤ S256x128.size a) ∧
  (∀ k1_t171 : Fin (k1_t171_loop i v496 v502).trips, ∀ (k1_h86 : k1_cond86 i v496 v502 = 1#1), ∀ a, (k1_off686 i v496 v502 k1_t171) a + S1x16.size a ≤ S256x128.size a) ∧
  (∀ (k1_h86 : k1_cond86 i v496 v502 = 1#1), (k1_t172_loop i v496 v502).OK) ∧
  (∀ k1_t172 : Fin (k1_t172_loop i v496 v502).trips, ∀ (k1_h86 : k1_cond86 i v496 v502 = 1#1), ∀ a, (k1_off687 i v496 v502 k1_t172) a + S1x16.size a ≤ S256x128.size a) ∧
  (∀ k1_t172 : Fin (k1_t172_loop i v496 v502).trips, ∀ (k1_h86 : k1_cond86 i v496 v502 = 1#1), ∀ a, (k1_off688 i v496 v502 k1_t172) a + S1x16.size a ≤ S256x128.size a) ∧
  (∀ k1_t172 : Fin (k1_t172_loop i v496 v502).trips, ∀ (k1_h86 : k1_cond86 i v496 v502 = 1#1), ∀ a, (k1_off689 i v496 v502 k1_t172) a + S1x16.size a ≤ S256x128.size a) ∧
  (∀ k1_t172 : Fin (k1_t172_loop i v496 v502).trips, ∀ (k1_h86 : k1_cond86 i v496 v502 = 1#1), ∀ a, (k1_off690 i v496 v502 k1_t172) a + S1x16.size a ≤ S256x128.size a) ∧
  (∀ (k1_h118 : k1_cond118 i v496 v502 = 1#1), (k1_t235_loop i v496 v502).OK) ∧
  (∀ k1_t235 : Fin (k1_t235_loop i v496 v502).trips, ∀ (k1_h118 : k1_cond118 i v496 v502 = 1#1), ∀ a, (k1_off939 i v496 v502 k1_t235) a + S1x16.size a ≤ S256x128.size a)
def k1_chk22_1 (i : grid1.Coords) (v496 : BitVec 32) (v502 : BitVec 32) : Prop :=
  (∀ k1_t235 : Fin (k1_t235_loop i v496 v502).trips, ∀ (k1_h118 : k1_cond118 i v496 v502 = 1#1), ∀ a, (k1_off940 i v496 v502 k1_t235) a + S1x16.size a ≤ S256x128.size a) ∧
  (∀ k1_t235 : Fin (k1_t235_loop i v496 v502).trips, ∀ (k1_h118 : k1_cond118 i v496 v502 = 1#1), ∀ a, (k1_off941 i v496 v502 k1_t235) a + S1x16.size a ≤ S256x128.size a) ∧
  (∀ k1_t235 : Fin (k1_t235_loop i v496 v502).trips, ∀ (k1_h118 : k1_cond118 i v496 v502 = 1#1), ∀ a, (k1_off942 i v496 v502 k1_t235) a + S1x16.size a ≤ S256x128.size a) ∧
  (∀ (k1_h118 : k1_cond118 i v496 v502 = 1#1), (k1_t236_loop i v496 v502).OK) ∧
  (∀ k1_t236 : Fin (k1_t236_loop i v496 v502).trips, ∀ (k1_h118 : k1_cond118 i v496 v502 = 1#1), ∀ a, (k1_off943 i v496 v502 k1_t236) a + S1x16.size a ≤ S256x128.size a) ∧
  (∀ k1_t236 : Fin (k1_t236_loop i v496 v502).trips, ∀ (k1_h118 : k1_cond118 i v496 v502 = 1#1), ∀ a, (k1_off944 i v496 v502 k1_t236) a + S1x16.size a ≤ S256x128.size a) ∧
  (∀ k1_t236 : Fin (k1_t236_loop i v496 v502).trips, ∀ (k1_h118 : k1_cond118 i v496 v502 = 1#1), ∀ a, (k1_off945 i v496 v502 k1_t236) a + S1x16.size a ≤ S256x128.size a) ∧
  (∀ k1_t236 : Fin (k1_t236_loop i v496 v502).trips, ∀ (k1_h118 : k1_cond118 i v496 v502 = 1#1), ∀ a, (k1_off946 i v496 v502 k1_t236) a + S1x16.size a ≤ S256x128.size a)
def k1_chk22 (i : grid1.Coords) (v496 : BitVec 32) (v502 : BitVec 32) : Prop :=
  k1_chk22_0 i v496 v502 ∧
  k1_chk22_1 i v496 v502
theorem k1_t43_ok : ∀ (i : grid1.Coords) (v496 : BitVec 32) (v502 : BitVec 32) (k1_hw22 : k1_chk22 i v496 v502), ∀ (k1_h22 : k1_cond22 i v496 v502 = 1#1), (k1_t43_loop i v496 v502).OK := fun i v496 v502 k1_hw22 k1_h22 => k1_hw22.1.1 k1_h22
theorem k1_off170_inb : ∀ (i : grid1.Coords) (v496 : BitVec 32) (v502 : BitVec 32) (k1_hw22 : k1_chk22 i v496 v502) (k1_t43 : Fin (k1_t43_loop i v496 v502).trips), ∀ (k1_h22 : k1_cond22 i v496 v502 = 1#1), ∀ a, (k1_off170 i v496 v502 k1_t43) a + S1x16.size a ≤ S256x128.size a := fun i v496 v502 k1_hw22 k1_t43 k1_h22 => k1_hw22.1.2.1 k1_t43 k1_h22
theorem k1_off171_inb : ∀ (i : grid1.Coords) (v496 : BitVec 32) (v502 : BitVec 32) (k1_hw22 : k1_chk22 i v496 v502) (k1_t43 : Fin (k1_t43_loop i v496 v502).trips), ∀ (k1_h22 : k1_cond22 i v496 v502 = 1#1), ∀ a, (k1_off171 i v496 v502 k1_t43) a + S1x16.size a ≤ S256x128.size a := fun i v496 v502 k1_hw22 k1_t43 k1_h22 => k1_hw22.1.2.2.1 k1_t43 k1_h22
theorem k1_off172_inb : ∀ (i : grid1.Coords) (v496 : BitVec 32) (v502 : BitVec 32) (k1_hw22 : k1_chk22 i v496 v502) (k1_t43 : Fin (k1_t43_loop i v496 v502).trips), ∀ (k1_h22 : k1_cond22 i v496 v502 = 1#1), ∀ a, (k1_off172 i v496 v502 k1_t43) a + S1x16.size a ≤ S256x128.size a := fun i v496 v502 k1_hw22 k1_t43 k1_h22 => k1_hw22.1.2.2.2.1 k1_t43 k1_h22
theorem k1_off173_inb : ∀ (i : grid1.Coords) (v496 : BitVec 32) (v502 : BitVec 32) (k1_hw22 : k1_chk22 i v496 v502) (k1_t43 : Fin (k1_t43_loop i v496 v502).trips), ∀ (k1_h22 : k1_cond22 i v496 v502 = 1#1), ∀ a, (k1_off173 i v496 v502 k1_t43) a + S1x16.size a ≤ S256x128.size a := fun i v496 v502 k1_hw22 k1_t43 k1_h22 => k1_hw22.1.2.2.2.2.1 k1_t43 k1_h22
theorem k1_t44_ok : ∀ (i : grid1.Coords) (v496 : BitVec 32) (v502 : BitVec 32) (k1_hw22 : k1_chk22 i v496 v502), ∀ (k1_h22 : k1_cond22 i v496 v502 = 1#1), (k1_t44_loop i v496 v502).OK := fun i v496 v502 k1_hw22 k1_h22 => k1_hw22.1.2.2.2.2.2.1 k1_h22
theorem k1_off174_inb : ∀ (i : grid1.Coords) (v496 : BitVec 32) (v502 : BitVec 32) (k1_hw22 : k1_chk22 i v496 v502) (k1_t44 : Fin (k1_t44_loop i v496 v502).trips), ∀ (k1_h22 : k1_cond22 i v496 v502 = 1#1), ∀ a, (k1_off174 i v496 v502 k1_t44) a + S1x16.size a ≤ S256x128.size a := fun i v496 v502 k1_hw22 k1_t44 k1_h22 => k1_hw22.1.2.2.2.2.2.2.1 k1_t44 k1_h22
theorem k1_off175_inb : ∀ (i : grid1.Coords) (v496 : BitVec 32) (v502 : BitVec 32) (k1_hw22 : k1_chk22 i v496 v502) (k1_t44 : Fin (k1_t44_loop i v496 v502).trips), ∀ (k1_h22 : k1_cond22 i v496 v502 = 1#1), ∀ a, (k1_off175 i v496 v502 k1_t44) a + S1x16.size a ≤ S256x128.size a := fun i v496 v502 k1_hw22 k1_t44 k1_h22 => k1_hw22.1.2.2.2.2.2.2.2.1 k1_t44 k1_h22
theorem k1_off176_inb : ∀ (i : grid1.Coords) (v496 : BitVec 32) (v502 : BitVec 32) (k1_hw22 : k1_chk22 i v496 v502) (k1_t44 : Fin (k1_t44_loop i v496 v502).trips), ∀ (k1_h22 : k1_cond22 i v496 v502 = 1#1), ∀ a, (k1_off176 i v496 v502 k1_t44) a + S1x16.size a ≤ S256x128.size a := fun i v496 v502 k1_hw22 k1_t44 k1_h22 => k1_hw22.1.2.2.2.2.2.2.2.2.1 k1_t44 k1_h22
theorem k1_off177_inb : ∀ (i : grid1.Coords) (v496 : BitVec 32) (v502 : BitVec 32) (k1_hw22 : k1_chk22 i v496 v502) (k1_t44 : Fin (k1_t44_loop i v496 v502).trips), ∀ (k1_h22 : k1_cond22 i v496 v502 = 1#1), ∀ a, (k1_off177 i v496 v502 k1_t44) a + S1x16.size a ≤ S256x128.size a := fun i v496 v502 k1_hw22 k1_t44 k1_h22 => k1_hw22.1.2.2.2.2.2.2.2.2.2.1 k1_t44 k1_h22
theorem k1_t107_ok : ∀ (i : grid1.Coords) (v496 : BitVec 32) (v502 : BitVec 32) (k1_hw22 : k1_chk22 i v496 v502), ∀ (k1_h54 : k1_cond54 i v496 v502 = 1#1), (k1_t107_loop i v496 v502).OK := fun i v496 v502 k1_hw22 k1_h54 => k1_hw22.1.2.2.2.2.2.2.2.2.2.2.1 k1_h54
theorem k1_off427_inb : ∀ (i : grid1.Coords) (v496 : BitVec 32) (v502 : BitVec 32) (k1_hw22 : k1_chk22 i v496 v502) (k1_t107 : Fin (k1_t107_loop i v496 v502).trips), ∀ (k1_h54 : k1_cond54 i v496 v502 = 1#1), ∀ a, (k1_off427 i v496 v502 k1_t107) a + S1x16.size a ≤ S256x128.size a := fun i v496 v502 k1_hw22 k1_t107 k1_h54 => k1_hw22.1.2.2.2.2.2.2.2.2.2.2.2.1 k1_t107 k1_h54
theorem k1_off428_inb : ∀ (i : grid1.Coords) (v496 : BitVec 32) (v502 : BitVec 32) (k1_hw22 : k1_chk22 i v496 v502) (k1_t107 : Fin (k1_t107_loop i v496 v502).trips), ∀ (k1_h54 : k1_cond54 i v496 v502 = 1#1), ∀ a, (k1_off428 i v496 v502 k1_t107) a + S1x16.size a ≤ S256x128.size a := fun i v496 v502 k1_hw22 k1_t107 k1_h54 => k1_hw22.1.2.2.2.2.2.2.2.2.2.2.2.2.1 k1_t107 k1_h54
theorem k1_off429_inb : ∀ (i : grid1.Coords) (v496 : BitVec 32) (v502 : BitVec 32) (k1_hw22 : k1_chk22 i v496 v502) (k1_t107 : Fin (k1_t107_loop i v496 v502).trips), ∀ (k1_h54 : k1_cond54 i v496 v502 = 1#1), ∀ a, (k1_off429 i v496 v502 k1_t107) a + S1x16.size a ≤ S256x128.size a := fun i v496 v502 k1_hw22 k1_t107 k1_h54 => k1_hw22.1.2.2.2.2.2.2.2.2.2.2.2.2.2.1 k1_t107 k1_h54
theorem k1_off430_inb : ∀ (i : grid1.Coords) (v496 : BitVec 32) (v502 : BitVec 32) (k1_hw22 : k1_chk22 i v496 v502) (k1_t107 : Fin (k1_t107_loop i v496 v502).trips), ∀ (k1_h54 : k1_cond54 i v496 v502 = 1#1), ∀ a, (k1_off430 i v496 v502 k1_t107) a + S1x16.size a ≤ S256x128.size a := fun i v496 v502 k1_hw22 k1_t107 k1_h54 => k1_hw22.1.2.2.2.2.2.2.2.2.2.2.2.2.2.2.1 k1_t107 k1_h54
theorem k1_t108_ok : ∀ (i : grid1.Coords) (v496 : BitVec 32) (v502 : BitVec 32) (k1_hw22 : k1_chk22 i v496 v502), ∀ (k1_h54 : k1_cond54 i v496 v502 = 1#1), (k1_t108_loop i v496 v502).OK := fun i v496 v502 k1_hw22 k1_h54 => k1_hw22.1.2.2.2.2.2.2.2.2.2.2.2.2.2.2.2.1 k1_h54
theorem k1_off431_inb : ∀ (i : grid1.Coords) (v496 : BitVec 32) (v502 : BitVec 32) (k1_hw22 : k1_chk22 i v496 v502) (k1_t108 : Fin (k1_t108_loop i v496 v502).trips), ∀ (k1_h54 : k1_cond54 i v496 v502 = 1#1), ∀ a, (k1_off431 i v496 v502 k1_t108) a + S1x16.size a ≤ S256x128.size a := fun i v496 v502 k1_hw22 k1_t108 k1_h54 => k1_hw22.1.2.2.2.2.2.2.2.2.2.2.2.2.2.2.2.2.1 k1_t108 k1_h54
theorem k1_off432_inb : ∀ (i : grid1.Coords) (v496 : BitVec 32) (v502 : BitVec 32) (k1_hw22 : k1_chk22 i v496 v502) (k1_t108 : Fin (k1_t108_loop i v496 v502).trips), ∀ (k1_h54 : k1_cond54 i v496 v502 = 1#1), ∀ a, (k1_off432 i v496 v502 k1_t108) a + S1x16.size a ≤ S256x128.size a := fun i v496 v502 k1_hw22 k1_t108 k1_h54 => k1_hw22.1.2.2.2.2.2.2.2.2.2.2.2.2.2.2.2.2.2.1 k1_t108 k1_h54
theorem k1_off433_inb : ∀ (i : grid1.Coords) (v496 : BitVec 32) (v502 : BitVec 32) (k1_hw22 : k1_chk22 i v496 v502) (k1_t108 : Fin (k1_t108_loop i v496 v502).trips), ∀ (k1_h54 : k1_cond54 i v496 v502 = 1#1), ∀ a, (k1_off433 i v496 v502 k1_t108) a + S1x16.size a ≤ S256x128.size a := fun i v496 v502 k1_hw22 k1_t108 k1_h54 => k1_hw22.1.2.2.2.2.2.2.2.2.2.2.2.2.2.2.2.2.2.2.1 k1_t108 k1_h54
theorem k1_off434_inb : ∀ (i : grid1.Coords) (v496 : BitVec 32) (v502 : BitVec 32) (k1_hw22 : k1_chk22 i v496 v502) (k1_t108 : Fin (k1_t108_loop i v496 v502).trips), ∀ (k1_h54 : k1_cond54 i v496 v502 = 1#1), ∀ a, (k1_off434 i v496 v502 k1_t108) a + S1x16.size a ≤ S256x128.size a := fun i v496 v502 k1_hw22 k1_t108 k1_h54 => k1_hw22.1.2.2.2.2.2.2.2.2.2.2.2.2.2.2.2.2.2.2.2.1 k1_t108 k1_h54
theorem k1_t171_ok : ∀ (i : grid1.Coords) (v496 : BitVec 32) (v502 : BitVec 32) (k1_hw22 : k1_chk22 i v496 v502), ∀ (k1_h86 : k1_cond86 i v496 v502 = 1#1), (k1_t171_loop i v496 v502).OK := fun i v496 v502 k1_hw22 k1_h86 => k1_hw22.1.2.2.2.2.2.2.2.2.2.2.2.2.2.2.2.2.2.2.2.2.1 k1_h86
theorem k1_off683_inb : ∀ (i : grid1.Coords) (v496 : BitVec 32) (v502 : BitVec 32) (k1_hw22 : k1_chk22 i v496 v502) (k1_t171 : Fin (k1_t171_loop i v496 v502).trips), ∀ (k1_h86 : k1_cond86 i v496 v502 = 1#1), ∀ a, (k1_off683 i v496 v502 k1_t171) a + S1x16.size a ≤ S256x128.size a := fun i v496 v502 k1_hw22 k1_t171 k1_h86 => k1_hw22.1.2.2.2.2.2.2.2.2.2.2.2.2.2.2.2.2.2.2.2.2.2.1 k1_t171 k1_h86
theorem k1_off684_inb : ∀ (i : grid1.Coords) (v496 : BitVec 32) (v502 : BitVec 32) (k1_hw22 : k1_chk22 i v496 v502) (k1_t171 : Fin (k1_t171_loop i v496 v502).trips), ∀ (k1_h86 : k1_cond86 i v496 v502 = 1#1), ∀ a, (k1_off684 i v496 v502 k1_t171) a + S1x16.size a ≤ S256x128.size a := fun i v496 v502 k1_hw22 k1_t171 k1_h86 => k1_hw22.1.2.2.2.2.2.2.2.2.2.2.2.2.2.2.2.2.2.2.2.2.2.2.1 k1_t171 k1_h86
theorem k1_off685_inb : ∀ (i : grid1.Coords) (v496 : BitVec 32) (v502 : BitVec 32) (k1_hw22 : k1_chk22 i v496 v502) (k1_t171 : Fin (k1_t171_loop i v496 v502).trips), ∀ (k1_h86 : k1_cond86 i v496 v502 = 1#1), ∀ a, (k1_off685 i v496 v502 k1_t171) a + S1x16.size a ≤ S256x128.size a := fun i v496 v502 k1_hw22 k1_t171 k1_h86 => k1_hw22.1.2.2.2.2.2.2.2.2.2.2.2.2.2.2.2.2.2.2.2.2.2.2.2.1 k1_t171 k1_h86
theorem k1_off686_inb : ∀ (i : grid1.Coords) (v496 : BitVec 32) (v502 : BitVec 32) (k1_hw22 : k1_chk22 i v496 v502) (k1_t171 : Fin (k1_t171_loop i v496 v502).trips), ∀ (k1_h86 : k1_cond86 i v496 v502 = 1#1), ∀ a, (k1_off686 i v496 v502 k1_t171) a + S1x16.size a ≤ S256x128.size a := fun i v496 v502 k1_hw22 k1_t171 k1_h86 => k1_hw22.1.2.2.2.2.2.2.2.2.2.2.2.2.2.2.2.2.2.2.2.2.2.2.2.2.1 k1_t171 k1_h86
theorem k1_t172_ok : ∀ (i : grid1.Coords) (v496 : BitVec 32) (v502 : BitVec 32) (k1_hw22 : k1_chk22 i v496 v502), ∀ (k1_h86 : k1_cond86 i v496 v502 = 1#1), (k1_t172_loop i v496 v502).OK := fun i v496 v502 k1_hw22 k1_h86 => k1_hw22.1.2.2.2.2.2.2.2.2.2.2.2.2.2.2.2.2.2.2.2.2.2.2.2.2.2.1 k1_h86
theorem k1_off687_inb : ∀ (i : grid1.Coords) (v496 : BitVec 32) (v502 : BitVec 32) (k1_hw22 : k1_chk22 i v496 v502) (k1_t172 : Fin (k1_t172_loop i v496 v502).trips), ∀ (k1_h86 : k1_cond86 i v496 v502 = 1#1), ∀ a, (k1_off687 i v496 v502 k1_t172) a + S1x16.size a ≤ S256x128.size a := fun i v496 v502 k1_hw22 k1_t172 k1_h86 => k1_hw22.1.2.2.2.2.2.2.2.2.2.2.2.2.2.2.2.2.2.2.2.2.2.2.2.2.2.2.1 k1_t172 k1_h86
theorem k1_off688_inb : ∀ (i : grid1.Coords) (v496 : BitVec 32) (v502 : BitVec 32) (k1_hw22 : k1_chk22 i v496 v502) (k1_t172 : Fin (k1_t172_loop i v496 v502).trips), ∀ (k1_h86 : k1_cond86 i v496 v502 = 1#1), ∀ a, (k1_off688 i v496 v502 k1_t172) a + S1x16.size a ≤ S256x128.size a := fun i v496 v502 k1_hw22 k1_t172 k1_h86 => k1_hw22.1.2.2.2.2.2.2.2.2.2.2.2.2.2.2.2.2.2.2.2.2.2.2.2.2.2.2.2.1 k1_t172 k1_h86
theorem k1_off689_inb : ∀ (i : grid1.Coords) (v496 : BitVec 32) (v502 : BitVec 32) (k1_hw22 : k1_chk22 i v496 v502) (k1_t172 : Fin (k1_t172_loop i v496 v502).trips), ∀ (k1_h86 : k1_cond86 i v496 v502 = 1#1), ∀ a, (k1_off689 i v496 v502 k1_t172) a + S1x16.size a ≤ S256x128.size a := fun i v496 v502 k1_hw22 k1_t172 k1_h86 => k1_hw22.1.2.2.2.2.2.2.2.2.2.2.2.2.2.2.2.2.2.2.2.2.2.2.2.2.2.2.2.2.1 k1_t172 k1_h86
theorem k1_off690_inb : ∀ (i : grid1.Coords) (v496 : BitVec 32) (v502 : BitVec 32) (k1_hw22 : k1_chk22 i v496 v502) (k1_t172 : Fin (k1_t172_loop i v496 v502).trips), ∀ (k1_h86 : k1_cond86 i v496 v502 = 1#1), ∀ a, (k1_off690 i v496 v502 k1_t172) a + S1x16.size a ≤ S256x128.size a := fun i v496 v502 k1_hw22 k1_t172 k1_h86 => k1_hw22.1.2.2.2.2.2.2.2.2.2.2.2.2.2.2.2.2.2.2.2.2.2.2.2.2.2.2.2.2.2.1 k1_t172 k1_h86
theorem k1_t235_ok : ∀ (i : grid1.Coords) (v496 : BitVec 32) (v502 : BitVec 32) (k1_hw22 : k1_chk22 i v496 v502), ∀ (k1_h118 : k1_cond118 i v496 v502 = 1#1), (k1_t235_loop i v496 v502).OK := fun i v496 v502 k1_hw22 k1_h118 => k1_hw22.1.2.2.2.2.2.2.2.2.2.2.2.2.2.2.2.2.2.2.2.2.2.2.2.2.2.2.2.2.2.2.1 k1_h118
theorem k1_off939_inb : ∀ (i : grid1.Coords) (v496 : BitVec 32) (v502 : BitVec 32) (k1_hw22 : k1_chk22 i v496 v502) (k1_t235 : Fin (k1_t235_loop i v496 v502).trips), ∀ (k1_h118 : k1_cond118 i v496 v502 = 1#1), ∀ a, (k1_off939 i v496 v502 k1_t235) a + S1x16.size a ≤ S256x128.size a := fun i v496 v502 k1_hw22 k1_t235 k1_h118 => k1_hw22.1.2.2.2.2.2.2.2.2.2.2.2.2.2.2.2.2.2.2.2.2.2.2.2.2.2.2.2.2.2.2.2 k1_t235 k1_h118
theorem k1_off940_inb : ∀ (i : grid1.Coords) (v496 : BitVec 32) (v502 : BitVec 32) (k1_hw22 : k1_chk22 i v496 v502) (k1_t235 : Fin (k1_t235_loop i v496 v502).trips), ∀ (k1_h118 : k1_cond118 i v496 v502 = 1#1), ∀ a, (k1_off940 i v496 v502 k1_t235) a + S1x16.size a ≤ S256x128.size a := fun i v496 v502 k1_hw22 k1_t235 k1_h118 => k1_hw22.2.1 k1_t235 k1_h118
theorem k1_off941_inb : ∀ (i : grid1.Coords) (v496 : BitVec 32) (v502 : BitVec 32) (k1_hw22 : k1_chk22 i v496 v502) (k1_t235 : Fin (k1_t235_loop i v496 v502).trips), ∀ (k1_h118 : k1_cond118 i v496 v502 = 1#1), ∀ a, (k1_off941 i v496 v502 k1_t235) a + S1x16.size a ≤ S256x128.size a := fun i v496 v502 k1_hw22 k1_t235 k1_h118 => k1_hw22.2.2.1 k1_t235 k1_h118
theorem k1_off942_inb : ∀ (i : grid1.Coords) (v496 : BitVec 32) (v502 : BitVec 32) (k1_hw22 : k1_chk22 i v496 v502) (k1_t235 : Fin (k1_t235_loop i v496 v502).trips), ∀ (k1_h118 : k1_cond118 i v496 v502 = 1#1), ∀ a, (k1_off942 i v496 v502 k1_t235) a + S1x16.size a ≤ S256x128.size a := fun i v496 v502 k1_hw22 k1_t235 k1_h118 => k1_hw22.2.2.2.1 k1_t235 k1_h118
theorem k1_t236_ok : ∀ (i : grid1.Coords) (v496 : BitVec 32) (v502 : BitVec 32) (k1_hw22 : k1_chk22 i v496 v502), ∀ (k1_h118 : k1_cond118 i v496 v502 = 1#1), (k1_t236_loop i v496 v502).OK := fun i v496 v502 k1_hw22 k1_h118 => k1_hw22.2.2.2.2.1 k1_h118
theorem k1_off943_inb : ∀ (i : grid1.Coords) (v496 : BitVec 32) (v502 : BitVec 32) (k1_hw22 : k1_chk22 i v496 v502) (k1_t236 : Fin (k1_t236_loop i v496 v502).trips), ∀ (k1_h118 : k1_cond118 i v496 v502 = 1#1), ∀ a, (k1_off943 i v496 v502 k1_t236) a + S1x16.size a ≤ S256x128.size a := fun i v496 v502 k1_hw22 k1_t236 k1_h118 => k1_hw22.2.2.2.2.2.1 k1_t236 k1_h118
theorem k1_off944_inb : ∀ (i : grid1.Coords) (v496 : BitVec 32) (v502 : BitVec 32) (k1_hw22 : k1_chk22 i v496 v502) (k1_t236 : Fin (k1_t236_loop i v496 v502).trips), ∀ (k1_h118 : k1_cond118 i v496 v502 = 1#1), ∀ a, (k1_off944 i v496 v502 k1_t236) a + S1x16.size a ≤ S256x128.size a := fun i v496 v502 k1_hw22 k1_t236 k1_h118 => k1_hw22.2.2.2.2.2.2.1 k1_t236 k1_h118
theorem k1_off945_inb : ∀ (i : grid1.Coords) (v496 : BitVec 32) (v502 : BitVec 32) (k1_hw22 : k1_chk22 i v496 v502) (k1_t236 : Fin (k1_t236_loop i v496 v502).trips), ∀ (k1_h118 : k1_cond118 i v496 v502 = 1#1), ∀ a, (k1_off945 i v496 v502 k1_t236) a + S1x16.size a ≤ S256x128.size a := fun i v496 v502 k1_hw22 k1_t236 k1_h118 => k1_hw22.2.2.2.2.2.2.2.1 k1_t236 k1_h118
theorem k1_off946_inb : ∀ (i : grid1.Coords) (v496 : BitVec 32) (v502 : BitVec 32) (k1_hw22 : k1_chk22 i v496 v502) (k1_t236 : Fin (k1_t236_loop i v496 v502).trips), ∀ (k1_h118 : k1_cond118 i v496 v502 = 1#1), ∀ a, (k1_off946 i v496 v502 k1_t236) a + S1x16.size a ≤ S256x128.size a := fun i v496 v502 k1_hw22 k1_t236 k1_h118 => k1_hw22.2.2.2.2.2.2.2.2 k1_t236 k1_h118

@[reducible] def k1_t237_loop (i : grid1.Coords) (v508 : BitVec 32) (v513 : BitVec 32) : Scf.Loop 32 :=
  let c256_i32_1120 : BitVec 32 := 256#32
  let c0_i32_1119 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let c256_i32_1123 : BitVec 32 := 256#32
  let c0_i32_1122 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c768_i32_1121 : BitVec 32 := 768#32
  let v1706 : BitVec 32 := Scalar.subi v516 c768_i32_1121
  let v1707 : BitVec 32 := Scalar.maxsi c0_i32_1122 v1706
  let v1708 : BitVec 32 := Scalar.minsi c256_i32_1123 v1707
  let v1805 : BitVec 32 := Scalar.subi v1708 v1705
  let c1_i32_1196 : BitVec 32 := 1#32
  let v1807 : BitVec 32 := Scalar.divsi v1805 c1_i32_1196
  let v1808 : BitVec 32 := Scalar.muli v1807 c1_i32_1196
  let v1809 : BitVec 32 := Scalar.addi v1705 v1808
  let c1_i32_1197 : BitVec 32 := 1#32
  ⟨v1705, v1809, c1_i32_1197⟩
def k1_cond119 (i : grid1.Coords) (v508 : BitVec 32) (v513 : BitVec 32) : BitVec 1 :=
  let c256_i32_1123 : BitVec 32 := 256#32
  let c0_i32_1122 : BitVec 32 := 0#32
  let c1024_i32_224 : BitVec 32 := 1024#32
  let c0_i32_223 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v514 : BitVec 32 := Scalar.subi v513 v3
  let v515 : BitVec 32 := Scalar.maxsi c0_i32_223 v514
  let v516 : BitVec 32 := Scalar.minsi c1024_i32_224 v515
  let c768_i32_1121 : BitVec 32 := 768#32
  let v1706 : BitVec 32 := Scalar.subi v516 c768_i32_1121
  let v1707 : BitVec 32 := Scalar.maxsi c0_i32_1122 v1706
  let v1708 : BitVec 32 := Scalar.minsi c256_i32_1123 v1707
  let c256_i32_1120 : BitVec 32 := 256#32
  let c0_i32_1119 : BitVec 32 := 0#32
  let c1024_i32_222 : BitVec 32 := 1024#32
  let c0_i32_221 : BitVec 32 := 0#32
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let v1709 : BitVec 1 := Scalar.cmpi .sgt v1708 v1705
  let v1710 : BitVec 32 := Scalar.extui v1709
  let c0_i32_1124 : BitVec 32 := 0#32
  let v1711 : BitVec 1 := Scalar.cmpi .ne v1710 c0_i32_1124
  v1711

def k1_off947 (i : grid1.Coords) (v508 : BitVec 32) (v513 : BitVec 32) (k1_t237 : Fin (k1_t237_loop i v508 v513).trips) : Fin 2 → Nat :=
  let c256_i32_1120 : BitVec 32 := 256#32
  let c0_i32_1119 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let c1_i32_1197 : BitVec 32 := 1#32
  let arg13 : BitVec 32 := Scf.iv v1705 c1_i32_1197 k1_t237
  let v1828 : Index := Scalar.indexCast arg13
  let c0_1207 : Index := 0#32
  ![v1828.toNat, 0]
def k1_off948 (i : grid1.Coords) (v508 : BitVec 32) (v513 : BitVec 32) (k1_t237 : Fin (k1_t237_loop i v508 v513).trips) : Fin 2 → Nat :=
  let c256_i32_1120 : BitVec 32 := 256#32
  let c0_i32_1119 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let c1_i32_1197 : BitVec 32 := 1#32
  let arg13 : BitVec 32 := Scf.iv v1705 c1_i32_1197 k1_t237
  let v1832 : Index := Scalar.indexCast arg13
  let c16_1208 : Index := 16#32
  ![v1832.toNat, 16]
def k1_off949 (i : grid1.Coords) (v508 : BitVec 32) (v513 : BitVec 32) (k1_t237 : Fin (k1_t237_loop i v508 v513).trips) : Fin 2 → Nat :=
  let c256_i32_1120 : BitVec 32 := 256#32
  let c0_i32_1119 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let c1_i32_1197 : BitVec 32 := 1#32
  let arg13 : BitVec 32 := Scf.iv v1705 c1_i32_1197 k1_t237
  let v1836 : Index := Scalar.indexCast arg13
  let c32_1209 : Index := 32#32
  ![v1836.toNat, 32]
def k1_off950 (i : grid1.Coords) (v508 : BitVec 32) (v513 : BitVec 32) (k1_t237 : Fin (k1_t237_loop i v508 v513).trips) : Fin 2 → Nat :=
  let c256_i32_1120 : BitVec 32 := 256#32
  let c0_i32_1119 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let c1_i32_1197 : BitVec 32 := 1#32
  let arg13 : BitVec 32 := Scf.iv v1705 c1_i32_1197 k1_t237
  let v1840 : Index := Scalar.indexCast arg13
  let c48_1210 : Index := 48#32
  ![v1840.toNat, 48]
@[reducible] def k1_t238_loop (i : grid1.Coords) (v508 : BitVec 32) (v513 : BitVec 32) : Scf.Loop 32 :=
  let c256_i32_1120 : BitVec 32 := 256#32
  let c0_i32_1119 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let c256_i32_1123 : BitVec 32 := 256#32
  let c0_i32_1122 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c768_i32_1121 : BitVec 32 := 768#32
  let v1706 : BitVec 32 := Scalar.subi v516 c768_i32_1121
  let v1707 : BitVec 32 := Scalar.maxsi c0_i32_1122 v1706
  let v1708 : BitVec 32 := Scalar.minsi c256_i32_1123 v1707
  let v1805 : BitVec 32 := Scalar.subi v1708 v1705
  let c1_i32_1196 : BitVec 32 := 1#32
  let v1807 : BitVec 32 := Scalar.divsi v1805 c1_i32_1196
  let v1808 : BitVec 32 := Scalar.muli v1807 c1_i32_1196
  let v1809 : BitVec 32 := Scalar.addi v1705 v1808
  let v1806 : BitVec 32 := Scalar.addi v1705 v1805
  let c1_i32_1198 : BitVec 32 := 1#32
  ⟨v1809, v1806, c1_i32_1198⟩
def k1_off951 (i : grid1.Coords) (v508 : BitVec 32) (v513 : BitVec 32) (k1_t238 : Fin (k1_t238_loop i v508 v513).trips) : Fin 2 → Nat :=
  let c256_i32_1120 : BitVec 32 := 256#32
  let c0_i32_1119 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let c256_i32_1123 : BitVec 32 := 256#32
  let c0_i32_1122 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c768_i32_1121 : BitVec 32 := 768#32
  let v1706 : BitVec 32 := Scalar.subi v516 c768_i32_1121
  let v1707 : BitVec 32 := Scalar.maxsi c0_i32_1122 v1706
  let v1708 : BitVec 32 := Scalar.minsi c256_i32_1123 v1707
  let v1805 : BitVec 32 := Scalar.subi v1708 v1705
  let c1_i32_1196 : BitVec 32 := 1#32
  let v1807 : BitVec 32 := Scalar.divsi v1805 c1_i32_1196
  let v1808 : BitVec 32 := Scalar.muli v1807 c1_i32_1196
  let v1809 : BitVec 32 := Scalar.addi v1705 v1808
  let c1_i32_1198 : BitVec 32 := 1#32
  let arg13 : BitVec 32 := Scf.iv v1809 c1_i32_1198 k1_t238
  let v1828 : Index := Scalar.indexCast arg13
  let c0_1207 : Index := 0#32
  ![v1828.toNat, 0]
def k1_off952 (i : grid1.Coords) (v508 : BitVec 32) (v513 : BitVec 32) (k1_t238 : Fin (k1_t238_loop i v508 v513).trips) : Fin 2 → Nat :=
  let c256_i32_1120 : BitVec 32 := 256#32
  let c0_i32_1119 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let c256_i32_1123 : BitVec 32 := 256#32
  let c0_i32_1122 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c768_i32_1121 : BitVec 32 := 768#32
  let v1706 : BitVec 32 := Scalar.subi v516 c768_i32_1121
  let v1707 : BitVec 32 := Scalar.maxsi c0_i32_1122 v1706
  let v1708 : BitVec 32 := Scalar.minsi c256_i32_1123 v1707
  let v1805 : BitVec 32 := Scalar.subi v1708 v1705
  let c1_i32_1196 : BitVec 32 := 1#32
  let v1807 : BitVec 32 := Scalar.divsi v1805 c1_i32_1196
  let v1808 : BitVec 32 := Scalar.muli v1807 c1_i32_1196
  let v1809 : BitVec 32 := Scalar.addi v1705 v1808
  let c1_i32_1198 : BitVec 32 := 1#32
  let arg13 : BitVec 32 := Scf.iv v1809 c1_i32_1198 k1_t238
  let v1832 : Index := Scalar.indexCast arg13
  let c16_1208 : Index := 16#32
  ![v1832.toNat, 16]
def k1_off953 (i : grid1.Coords) (v508 : BitVec 32) (v513 : BitVec 32) (k1_t238 : Fin (k1_t238_loop i v508 v513).trips) : Fin 2 → Nat :=
  let c256_i32_1120 : BitVec 32 := 256#32
  let c0_i32_1119 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let c256_i32_1123 : BitVec 32 := 256#32
  let c0_i32_1122 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c768_i32_1121 : BitVec 32 := 768#32
  let v1706 : BitVec 32 := Scalar.subi v516 c768_i32_1121
  let v1707 : BitVec 32 := Scalar.maxsi c0_i32_1122 v1706
  let v1708 : BitVec 32 := Scalar.minsi c256_i32_1123 v1707
  let v1805 : BitVec 32 := Scalar.subi v1708 v1705
  let c1_i32_1196 : BitVec 32 := 1#32
  let v1807 : BitVec 32 := Scalar.divsi v1805 c1_i32_1196
  let v1808 : BitVec 32 := Scalar.muli v1807 c1_i32_1196
  let v1809 : BitVec 32 := Scalar.addi v1705 v1808
  let c1_i32_1198 : BitVec 32 := 1#32
  let arg13 : BitVec 32 := Scf.iv v1809 c1_i32_1198 k1_t238
  let v1836 : Index := Scalar.indexCast arg13
  let c32_1209 : Index := 32#32
  ![v1836.toNat, 32]
def k1_off954 (i : grid1.Coords) (v508 : BitVec 32) (v513 : BitVec 32) (k1_t238 : Fin (k1_t238_loop i v508 v513).trips) : Fin 2 → Nat :=
  let c256_i32_1120 : BitVec 32 := 256#32
  let c0_i32_1119 : BitVec 32 := 0#32
  let c1024_i32_222 : BitVec 32 := 1024#32
  let c0_i32_221 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v509 : BitVec 32 := Scalar.subi v508 v3
  let v510 : BitVec 32 := Scalar.maxsi c0_i32_221 v509
  let v511 : BitVec 32 := Scalar.minsi c1024_i32_222 v510
  let c768_i32_1118 : BitVec 32 := 768#32
  let v1703 : BitVec 32 := Scalar.subi v511 c768_i32_1118
  let v1704 : BitVec 32 := Scalar.maxsi c0_i32_1119 v1703
  let v1705 : BitVec 32 := Scalar.minsi c256_i32_1120 v1704
  let c256_i32_1123 : BitVec 32 := 256#32
  let c0_i32_1122 : BitVec 32 := 0#32
  let c1024_i32_224 : BitVec 32 := 1024#32
  let c0_i32_223 : BitVec 32 := 0#32
  let v514 : BitVec 32 := Scalar.subi v513 v3
  let v515 : BitVec 32 := Scalar.maxsi c0_i32_223 v514
  let v516 : BitVec 32 := Scalar.minsi c1024_i32_224 v515
  let c768_i32_1121 : BitVec 32 := 768#32
  let v1706 : BitVec 32 := Scalar.subi v516 c768_i32_1121
  let v1707 : BitVec 32 := Scalar.maxsi c0_i32_1122 v1706
  let v1708 : BitVec 32 := Scalar.minsi c256_i32_1123 v1707
  let v1805 : BitVec 32 := Scalar.subi v1708 v1705
  let c1_i32_1196 : BitVec 32 := 1#32
  let v1807 : BitVec 32 := Scalar.divsi v1805 c1_i32_1196
  let v1808 : BitVec 32 := Scalar.muli v1807 c1_i32_1196
  let v1809 : BitVec 32 := Scalar.addi v1705 v1808
  let c1_i32_1198 : BitVec 32 := 1#32
  let arg13 : BitVec 32 := Scf.iv v1809 c1_i32_1198 k1_t238
  let v1840 : Index := Scalar.indexCast arg13
  let c48_1210 : Index := 48#32
  ![v1840.toNat, 48]

def k1_chk23_0 (i : grid1.Coords) (v508 : BitVec 32) (v513 : BitVec 32) : Prop :=
  (∀ (k1_h23 : k1_cond23 i v508 v513 = 1#1), (k1_t45_loop i v508 v513).OK) ∧
  (∀ k1_t45 : Fin (k1_t45_loop i v508 v513).trips, ∀ (k1_h23 : k1_cond23 i v508 v513 = 1#1), ∀ a, (k1_off178 i v508 v513 k1_t45) a + S1x16.size a ≤ S256x128.size a) ∧
  (∀ k1_t45 : Fin (k1_t45_loop i v508 v513).trips, ∀ (k1_h23 : k1_cond23 i v508 v513 = 1#1), ∀ a, (k1_off179 i v508 v513 k1_t45) a + S1x16.size a ≤ S256x128.size a) ∧
  (∀ k1_t45 : Fin (k1_t45_loop i v508 v513).trips, ∀ (k1_h23 : k1_cond23 i v508 v513 = 1#1), ∀ a, (k1_off180 i v508 v513 k1_t45) a + S1x16.size a ≤ S256x128.size a) ∧
  (∀ k1_t45 : Fin (k1_t45_loop i v508 v513).trips, ∀ (k1_h23 : k1_cond23 i v508 v513 = 1#1), ∀ a, (k1_off181 i v508 v513 k1_t45) a + S1x16.size a ≤ S256x128.size a) ∧
  (∀ (k1_h23 : k1_cond23 i v508 v513 = 1#1), (k1_t46_loop i v508 v513).OK) ∧
  (∀ k1_t46 : Fin (k1_t46_loop i v508 v513).trips, ∀ (k1_h23 : k1_cond23 i v508 v513 = 1#1), ∀ a, (k1_off182 i v508 v513 k1_t46) a + S1x16.size a ≤ S256x128.size a) ∧
  (∀ k1_t46 : Fin (k1_t46_loop i v508 v513).trips, ∀ (k1_h23 : k1_cond23 i v508 v513 = 1#1), ∀ a, (k1_off183 i v508 v513 k1_t46) a + S1x16.size a ≤ S256x128.size a) ∧
  (∀ k1_t46 : Fin (k1_t46_loop i v508 v513).trips, ∀ (k1_h23 : k1_cond23 i v508 v513 = 1#1), ∀ a, (k1_off184 i v508 v513 k1_t46) a + S1x16.size a ≤ S256x128.size a) ∧
  (∀ k1_t46 : Fin (k1_t46_loop i v508 v513).trips, ∀ (k1_h23 : k1_cond23 i v508 v513 = 1#1), ∀ a, (k1_off185 i v508 v513 k1_t46) a + S1x16.size a ≤ S256x128.size a) ∧
  (∀ (k1_h55 : k1_cond55 i v508 v513 = 1#1), (k1_t109_loop i v508 v513).OK) ∧
  (∀ k1_t109 : Fin (k1_t109_loop i v508 v513).trips, ∀ (k1_h55 : k1_cond55 i v508 v513 = 1#1), ∀ a, (k1_off435 i v508 v513 k1_t109) a + S1x16.size a ≤ S256x128.size a) ∧
  (∀ k1_t109 : Fin (k1_t109_loop i v508 v513).trips, ∀ (k1_h55 : k1_cond55 i v508 v513 = 1#1), ∀ a, (k1_off436 i v508 v513 k1_t109) a + S1x16.size a ≤ S256x128.size a) ∧
  (∀ k1_t109 : Fin (k1_t109_loop i v508 v513).trips, ∀ (k1_h55 : k1_cond55 i v508 v513 = 1#1), ∀ a, (k1_off437 i v508 v513 k1_t109) a + S1x16.size a ≤ S256x128.size a) ∧
  (∀ k1_t109 : Fin (k1_t109_loop i v508 v513).trips, ∀ (k1_h55 : k1_cond55 i v508 v513 = 1#1), ∀ a, (k1_off438 i v508 v513 k1_t109) a + S1x16.size a ≤ S256x128.size a) ∧
  (∀ (k1_h55 : k1_cond55 i v508 v513 = 1#1), (k1_t110_loop i v508 v513).OK) ∧
  (∀ k1_t110 : Fin (k1_t110_loop i v508 v513).trips, ∀ (k1_h55 : k1_cond55 i v508 v513 = 1#1), ∀ a, (k1_off439 i v508 v513 k1_t110) a + S1x16.size a ≤ S256x128.size a) ∧
  (∀ k1_t110 : Fin (k1_t110_loop i v508 v513).trips, ∀ (k1_h55 : k1_cond55 i v508 v513 = 1#1), ∀ a, (k1_off440 i v508 v513 k1_t110) a + S1x16.size a ≤ S256x128.size a) ∧
  (∀ k1_t110 : Fin (k1_t110_loop i v508 v513).trips, ∀ (k1_h55 : k1_cond55 i v508 v513 = 1#1), ∀ a, (k1_off441 i v508 v513 k1_t110) a + S1x16.size a ≤ S256x128.size a) ∧
  (∀ k1_t110 : Fin (k1_t110_loop i v508 v513).trips, ∀ (k1_h55 : k1_cond55 i v508 v513 = 1#1), ∀ a, (k1_off442 i v508 v513 k1_t110) a + S1x16.size a ≤ S256x128.size a) ∧
  (∀ (k1_h87 : k1_cond87 i v508 v513 = 1#1), (k1_t173_loop i v508 v513).OK) ∧
  (∀ k1_t173 : Fin (k1_t173_loop i v508 v513).trips, ∀ (k1_h87 : k1_cond87 i v508 v513 = 1#1), ∀ a, (k1_off691 i v508 v513 k1_t173) a + S1x16.size a ≤ S256x128.size a) ∧
  (∀ k1_t173 : Fin (k1_t173_loop i v508 v513).trips, ∀ (k1_h87 : k1_cond87 i v508 v513 = 1#1), ∀ a, (k1_off692 i v508 v513 k1_t173) a + S1x16.size a ≤ S256x128.size a) ∧
  (∀ k1_t173 : Fin (k1_t173_loop i v508 v513).trips, ∀ (k1_h87 : k1_cond87 i v508 v513 = 1#1), ∀ a, (k1_off693 i v508 v513 k1_t173) a + S1x16.size a ≤ S256x128.size a) ∧
  (∀ k1_t173 : Fin (k1_t173_loop i v508 v513).trips, ∀ (k1_h87 : k1_cond87 i v508 v513 = 1#1), ∀ a, (k1_off694 i v508 v513 k1_t173) a + S1x16.size a ≤ S256x128.size a) ∧
  (∀ (k1_h87 : k1_cond87 i v508 v513 = 1#1), (k1_t174_loop i v508 v513).OK) ∧
  (∀ k1_t174 : Fin (k1_t174_loop i v508 v513).trips, ∀ (k1_h87 : k1_cond87 i v508 v513 = 1#1), ∀ a, (k1_off695 i v508 v513 k1_t174) a + S1x16.size a ≤ S256x128.size a) ∧
  (∀ k1_t174 : Fin (k1_t174_loop i v508 v513).trips, ∀ (k1_h87 : k1_cond87 i v508 v513 = 1#1), ∀ a, (k1_off696 i v508 v513 k1_t174) a + S1x16.size a ≤ S256x128.size a) ∧
  (∀ k1_t174 : Fin (k1_t174_loop i v508 v513).trips, ∀ (k1_h87 : k1_cond87 i v508 v513 = 1#1), ∀ a, (k1_off697 i v508 v513 k1_t174) a + S1x16.size a ≤ S256x128.size a) ∧
  (∀ k1_t174 : Fin (k1_t174_loop i v508 v513).trips, ∀ (k1_h87 : k1_cond87 i v508 v513 = 1#1), ∀ a, (k1_off698 i v508 v513 k1_t174) a + S1x16.size a ≤ S256x128.size a) ∧
  (∀ (k1_h119 : k1_cond119 i v508 v513 = 1#1), (k1_t237_loop i v508 v513).OK) ∧
  (∀ k1_t237 : Fin (k1_t237_loop i v508 v513).trips, ∀ (k1_h119 : k1_cond119 i v508 v513 = 1#1), ∀ a, (k1_off947 i v508 v513 k1_t237) a + S1x16.size a ≤ S256x128.size a)
def k1_chk23_1 (i : grid1.Coords) (v508 : BitVec 32) (v513 : BitVec 32) : Prop :=
  (∀ k1_t237 : Fin (k1_t237_loop i v508 v513).trips, ∀ (k1_h119 : k1_cond119 i v508 v513 = 1#1), ∀ a, (k1_off948 i v508 v513 k1_t237) a + S1x16.size a ≤ S256x128.size a) ∧
  (∀ k1_t237 : Fin (k1_t237_loop i v508 v513).trips, ∀ (k1_h119 : k1_cond119 i v508 v513 = 1#1), ∀ a, (k1_off949 i v508 v513 k1_t237) a + S1x16.size a ≤ S256x128.size a) ∧
  (∀ k1_t237 : Fin (k1_t237_loop i v508 v513).trips, ∀ (k1_h119 : k1_cond119 i v508 v513 = 1#1), ∀ a, (k1_off950 i v508 v513 k1_t237) a + S1x16.size a ≤ S256x128.size a) ∧
  (∀ (k1_h119 : k1_cond119 i v508 v513 = 1#1), (k1_t238_loop i v508 v513).OK) ∧
  (∀ k1_t238 : Fin (k1_t238_loop i v508 v513).trips, ∀ (k1_h119 : k1_cond119 i v508 v513 = 1#1), ∀ a, (k1_off951 i v508 v513 k1_t238) a + S1x16.size a ≤ S256x128.size a) ∧
  (∀ k1_t238 : Fin (k1_t238_loop i v508 v513).trips, ∀ (k1_h119 : k1_cond119 i v508 v513 = 1#1), ∀ a, (k1_off952 i v508 v513 k1_t238) a + S1x16.size a ≤ S256x128.size a) ∧
  (∀ k1_t238 : Fin (k1_t238_loop i v508 v513).trips, ∀ (k1_h119 : k1_cond119 i v508 v513 = 1#1), ∀ a, (k1_off953 i v508 v513 k1_t238) a + S1x16.size a ≤ S256x128.size a) ∧
  (∀ k1_t238 : Fin (k1_t238_loop i v508 v513).trips, ∀ (k1_h119 : k1_cond119 i v508 v513 = 1#1), ∀ a, (k1_off954 i v508 v513 k1_t238) a + S1x16.size a ≤ S256x128.size a)
def k1_chk23 (i : grid1.Coords) (v508 : BitVec 32) (v513 : BitVec 32) : Prop :=
  k1_chk23_0 i v508 v513 ∧
  k1_chk23_1 i v508 v513
theorem k1_t45_ok : ∀ (i : grid1.Coords) (v508 : BitVec 32) (v513 : BitVec 32) (k1_hw23 : k1_chk23 i v508 v513), ∀ (k1_h23 : k1_cond23 i v508 v513 = 1#1), (k1_t45_loop i v508 v513).OK := fun i v508 v513 k1_hw23 k1_h23 => k1_hw23.1.1 k1_h23
theorem k1_off178_inb : ∀ (i : grid1.Coords) (v508 : BitVec 32) (v513 : BitVec 32) (k1_hw23 : k1_chk23 i v508 v513) (k1_t45 : Fin (k1_t45_loop i v508 v513).trips), ∀ (k1_h23 : k1_cond23 i v508 v513 = 1#1), ∀ a, (k1_off178 i v508 v513 k1_t45) a + S1x16.size a ≤ S256x128.size a := fun i v508 v513 k1_hw23 k1_t45 k1_h23 => k1_hw23.1.2.1 k1_t45 k1_h23
theorem k1_off179_inb : ∀ (i : grid1.Coords) (v508 : BitVec 32) (v513 : BitVec 32) (k1_hw23 : k1_chk23 i v508 v513) (k1_t45 : Fin (k1_t45_loop i v508 v513).trips), ∀ (k1_h23 : k1_cond23 i v508 v513 = 1#1), ∀ a, (k1_off179 i v508 v513 k1_t45) a + S1x16.size a ≤ S256x128.size a := fun i v508 v513 k1_hw23 k1_t45 k1_h23 => k1_hw23.1.2.2.1 k1_t45 k1_h23
theorem k1_off180_inb : ∀ (i : grid1.Coords) (v508 : BitVec 32) (v513 : BitVec 32) (k1_hw23 : k1_chk23 i v508 v513) (k1_t45 : Fin (k1_t45_loop i v508 v513).trips), ∀ (k1_h23 : k1_cond23 i v508 v513 = 1#1), ∀ a, (k1_off180 i v508 v513 k1_t45) a + S1x16.size a ≤ S256x128.size a := fun i v508 v513 k1_hw23 k1_t45 k1_h23 => k1_hw23.1.2.2.2.1 k1_t45 k1_h23
theorem k1_off181_inb : ∀ (i : grid1.Coords) (v508 : BitVec 32) (v513 : BitVec 32) (k1_hw23 : k1_chk23 i v508 v513) (k1_t45 : Fin (k1_t45_loop i v508 v513).trips), ∀ (k1_h23 : k1_cond23 i v508 v513 = 1#1), ∀ a, (k1_off181 i v508 v513 k1_t45) a + S1x16.size a ≤ S256x128.size a := fun i v508 v513 k1_hw23 k1_t45 k1_h23 => k1_hw23.1.2.2.2.2.1 k1_t45 k1_h23
theorem k1_t46_ok : ∀ (i : grid1.Coords) (v508 : BitVec 32) (v513 : BitVec 32) (k1_hw23 : k1_chk23 i v508 v513), ∀ (k1_h23 : k1_cond23 i v508 v513 = 1#1), (k1_t46_loop i v508 v513).OK := fun i v508 v513 k1_hw23 k1_h23 => k1_hw23.1.2.2.2.2.2.1 k1_h23
theorem k1_off182_inb : ∀ (i : grid1.Coords) (v508 : BitVec 32) (v513 : BitVec 32) (k1_hw23 : k1_chk23 i v508 v513) (k1_t46 : Fin (k1_t46_loop i v508 v513).trips), ∀ (k1_h23 : k1_cond23 i v508 v513 = 1#1), ∀ a, (k1_off182 i v508 v513 k1_t46) a + S1x16.size a ≤ S256x128.size a := fun i v508 v513 k1_hw23 k1_t46 k1_h23 => k1_hw23.1.2.2.2.2.2.2.1 k1_t46 k1_h23
theorem k1_off183_inb : ∀ (i : grid1.Coords) (v508 : BitVec 32) (v513 : BitVec 32) (k1_hw23 : k1_chk23 i v508 v513) (k1_t46 : Fin (k1_t46_loop i v508 v513).trips), ∀ (k1_h23 : k1_cond23 i v508 v513 = 1#1), ∀ a, (k1_off183 i v508 v513 k1_t46) a + S1x16.size a ≤ S256x128.size a := fun i v508 v513 k1_hw23 k1_t46 k1_h23 => k1_hw23.1.2.2.2.2.2.2.2.1 k1_t46 k1_h23
theorem k1_off184_inb : ∀ (i : grid1.Coords) (v508 : BitVec 32) (v513 : BitVec 32) (k1_hw23 : k1_chk23 i v508 v513) (k1_t46 : Fin (k1_t46_loop i v508 v513).trips), ∀ (k1_h23 : k1_cond23 i v508 v513 = 1#1), ∀ a, (k1_off184 i v508 v513 k1_t46) a + S1x16.size a ≤ S256x128.size a := fun i v508 v513 k1_hw23 k1_t46 k1_h23 => k1_hw23.1.2.2.2.2.2.2.2.2.1 k1_t46 k1_h23
theorem k1_off185_inb : ∀ (i : grid1.Coords) (v508 : BitVec 32) (v513 : BitVec 32) (k1_hw23 : k1_chk23 i v508 v513) (k1_t46 : Fin (k1_t46_loop i v508 v513).trips), ∀ (k1_h23 : k1_cond23 i v508 v513 = 1#1), ∀ a, (k1_off185 i v508 v513 k1_t46) a + S1x16.size a ≤ S256x128.size a := fun i v508 v513 k1_hw23 k1_t46 k1_h23 => k1_hw23.1.2.2.2.2.2.2.2.2.2.1 k1_t46 k1_h23
theorem k1_t109_ok : ∀ (i : grid1.Coords) (v508 : BitVec 32) (v513 : BitVec 32) (k1_hw23 : k1_chk23 i v508 v513), ∀ (k1_h55 : k1_cond55 i v508 v513 = 1#1), (k1_t109_loop i v508 v513).OK := fun i v508 v513 k1_hw23 k1_h55 => k1_hw23.1.2.2.2.2.2.2.2.2.2.2.1 k1_h55
theorem k1_off435_inb : ∀ (i : grid1.Coords) (v508 : BitVec 32) (v513 : BitVec 32) (k1_hw23 : k1_chk23 i v508 v513) (k1_t109 : Fin (k1_t109_loop i v508 v513).trips), ∀ (k1_h55 : k1_cond55 i v508 v513 = 1#1), ∀ a, (k1_off435 i v508 v513 k1_t109) a + S1x16.size a ≤ S256x128.size a := fun i v508 v513 k1_hw23 k1_t109 k1_h55 => k1_hw23.1.2.2.2.2.2.2.2.2.2.2.2.1 k1_t109 k1_h55
theorem k1_off436_inb : ∀ (i : grid1.Coords) (v508 : BitVec 32) (v513 : BitVec 32) (k1_hw23 : k1_chk23 i v508 v513) (k1_t109 : Fin (k1_t109_loop i v508 v513).trips), ∀ (k1_h55 : k1_cond55 i v508 v513 = 1#1), ∀ a, (k1_off436 i v508 v513 k1_t109) a + S1x16.size a ≤ S256x128.size a := fun i v508 v513 k1_hw23 k1_t109 k1_h55 => k1_hw23.1.2.2.2.2.2.2.2.2.2.2.2.2.1 k1_t109 k1_h55
theorem k1_off437_inb : ∀ (i : grid1.Coords) (v508 : BitVec 32) (v513 : BitVec 32) (k1_hw23 : k1_chk23 i v508 v513) (k1_t109 : Fin (k1_t109_loop i v508 v513).trips), ∀ (k1_h55 : k1_cond55 i v508 v513 = 1#1), ∀ a, (k1_off437 i v508 v513 k1_t109) a + S1x16.size a ≤ S256x128.size a := fun i v508 v513 k1_hw23 k1_t109 k1_h55 => k1_hw23.1.2.2.2.2.2.2.2.2.2.2.2.2.2.1 k1_t109 k1_h55
theorem k1_off438_inb : ∀ (i : grid1.Coords) (v508 : BitVec 32) (v513 : BitVec 32) (k1_hw23 : k1_chk23 i v508 v513) (k1_t109 : Fin (k1_t109_loop i v508 v513).trips), ∀ (k1_h55 : k1_cond55 i v508 v513 = 1#1), ∀ a, (k1_off438 i v508 v513 k1_t109) a + S1x16.size a ≤ S256x128.size a := fun i v508 v513 k1_hw23 k1_t109 k1_h55 => k1_hw23.1.2.2.2.2.2.2.2.2.2.2.2.2.2.2.1 k1_t109 k1_h55
theorem k1_t110_ok : ∀ (i : grid1.Coords) (v508 : BitVec 32) (v513 : BitVec 32) (k1_hw23 : k1_chk23 i v508 v513), ∀ (k1_h55 : k1_cond55 i v508 v513 = 1#1), (k1_t110_loop i v508 v513).OK := fun i v508 v513 k1_hw23 k1_h55 => k1_hw23.1.2.2.2.2.2.2.2.2.2.2.2.2.2.2.2.1 k1_h55
theorem k1_off439_inb : ∀ (i : grid1.Coords) (v508 : BitVec 32) (v513 : BitVec 32) (k1_hw23 : k1_chk23 i v508 v513) (k1_t110 : Fin (k1_t110_loop i v508 v513).trips), ∀ (k1_h55 : k1_cond55 i v508 v513 = 1#1), ∀ a, (k1_off439 i v508 v513 k1_t110) a + S1x16.size a ≤ S256x128.size a := fun i v508 v513 k1_hw23 k1_t110 k1_h55 => k1_hw23.1.2.2.2.2.2.2.2.2.2.2.2.2.2.2.2.2.1 k1_t110 k1_h55
theorem k1_off440_inb : ∀ (i : grid1.Coords) (v508 : BitVec 32) (v513 : BitVec 32) (k1_hw23 : k1_chk23 i v508 v513) (k1_t110 : Fin (k1_t110_loop i v508 v513).trips), ∀ (k1_h55 : k1_cond55 i v508 v513 = 1#1), ∀ a, (k1_off440 i v508 v513 k1_t110) a + S1x16.size a ≤ S256x128.size a := fun i v508 v513 k1_hw23 k1_t110 k1_h55 => k1_hw23.1.2.2.2.2.2.2.2.2.2.2.2.2.2.2.2.2.2.1 k1_t110 k1_h55
theorem k1_off441_inb : ∀ (i : grid1.Coords) (v508 : BitVec 32) (v513 : BitVec 32) (k1_hw23 : k1_chk23 i v508 v513) (k1_t110 : Fin (k1_t110_loop i v508 v513).trips), ∀ (k1_h55 : k1_cond55 i v508 v513 = 1#1), ∀ a, (k1_off441 i v508 v513 k1_t110) a + S1x16.size a ≤ S256x128.size a := fun i v508 v513 k1_hw23 k1_t110 k1_h55 => k1_hw23.1.2.2.2.2.2.2.2.2.2.2.2.2.2.2.2.2.2.2.1 k1_t110 k1_h55
theorem k1_off442_inb : ∀ (i : grid1.Coords) (v508 : BitVec 32) (v513 : BitVec 32) (k1_hw23 : k1_chk23 i v508 v513) (k1_t110 : Fin (k1_t110_loop i v508 v513).trips), ∀ (k1_h55 : k1_cond55 i v508 v513 = 1#1), ∀ a, (k1_off442 i v508 v513 k1_t110) a + S1x16.size a ≤ S256x128.size a := fun i v508 v513 k1_hw23 k1_t110 k1_h55 => k1_hw23.1.2.2.2.2.2.2.2.2.2.2.2.2.2.2.2.2.2.2.2.1 k1_t110 k1_h55
theorem k1_t173_ok : ∀ (i : grid1.Coords) (v508 : BitVec 32) (v513 : BitVec 32) (k1_hw23 : k1_chk23 i v508 v513), ∀ (k1_h87 : k1_cond87 i v508 v513 = 1#1), (k1_t173_loop i v508 v513).OK := fun i v508 v513 k1_hw23 k1_h87 => k1_hw23.1.2.2.2.2.2.2.2.2.2.2.2.2.2.2.2.2.2.2.2.2.1 k1_h87
theorem k1_off691_inb : ∀ (i : grid1.Coords) (v508 : BitVec 32) (v513 : BitVec 32) (k1_hw23 : k1_chk23 i v508 v513) (k1_t173 : Fin (k1_t173_loop i v508 v513).trips), ∀ (k1_h87 : k1_cond87 i v508 v513 = 1#1), ∀ a, (k1_off691 i v508 v513 k1_t173) a + S1x16.size a ≤ S256x128.size a := fun i v508 v513 k1_hw23 k1_t173 k1_h87 => k1_hw23.1.2.2.2.2.2.2.2.2.2.2.2.2.2.2.2.2.2.2.2.2.2.1 k1_t173 k1_h87
theorem k1_off692_inb : ∀ (i : grid1.Coords) (v508 : BitVec 32) (v513 : BitVec 32) (k1_hw23 : k1_chk23 i v508 v513) (k1_t173 : Fin (k1_t173_loop i v508 v513).trips), ∀ (k1_h87 : k1_cond87 i v508 v513 = 1#1), ∀ a, (k1_off692 i v508 v513 k1_t173) a + S1x16.size a ≤ S256x128.size a := fun i v508 v513 k1_hw23 k1_t173 k1_h87 => k1_hw23.1.2.2.2.2.2.2.2.2.2.2.2.2.2.2.2.2.2.2.2.2.2.2.1 k1_t173 k1_h87
theorem k1_off693_inb : ∀ (i : grid1.Coords) (v508 : BitVec 32) (v513 : BitVec 32) (k1_hw23 : k1_chk23 i v508 v513) (k1_t173 : Fin (k1_t173_loop i v508 v513).trips), ∀ (k1_h87 : k1_cond87 i v508 v513 = 1#1), ∀ a, (k1_off693 i v508 v513 k1_t173) a + S1x16.size a ≤ S256x128.size a := fun i v508 v513 k1_hw23 k1_t173 k1_h87 => k1_hw23.1.2.2.2.2.2.2.2.2.2.2.2.2.2.2.2.2.2.2.2.2.2.2.2.1 k1_t173 k1_h87
theorem k1_off694_inb : ∀ (i : grid1.Coords) (v508 : BitVec 32) (v513 : BitVec 32) (k1_hw23 : k1_chk23 i v508 v513) (k1_t173 : Fin (k1_t173_loop i v508 v513).trips), ∀ (k1_h87 : k1_cond87 i v508 v513 = 1#1), ∀ a, (k1_off694 i v508 v513 k1_t173) a + S1x16.size a ≤ S256x128.size a := fun i v508 v513 k1_hw23 k1_t173 k1_h87 => k1_hw23.1.2.2.2.2.2.2.2.2.2.2.2.2.2.2.2.2.2.2.2.2.2.2.2.2.1 k1_t173 k1_h87
theorem k1_t174_ok : ∀ (i : grid1.Coords) (v508 : BitVec 32) (v513 : BitVec 32) (k1_hw23 : k1_chk23 i v508 v513), ∀ (k1_h87 : k1_cond87 i v508 v513 = 1#1), (k1_t174_loop i v508 v513).OK := fun i v508 v513 k1_hw23 k1_h87 => k1_hw23.1.2.2.2.2.2.2.2.2.2.2.2.2.2.2.2.2.2.2.2.2.2.2.2.2.2.1 k1_h87
theorem k1_off695_inb : ∀ (i : grid1.Coords) (v508 : BitVec 32) (v513 : BitVec 32) (k1_hw23 : k1_chk23 i v508 v513) (k1_t174 : Fin (k1_t174_loop i v508 v513).trips), ∀ (k1_h87 : k1_cond87 i v508 v513 = 1#1), ∀ a, (k1_off695 i v508 v513 k1_t174) a + S1x16.size a ≤ S256x128.size a := fun i v508 v513 k1_hw23 k1_t174 k1_h87 => k1_hw23.1.2.2.2.2.2.2.2.2.2.2.2.2.2.2.2.2.2.2.2.2.2.2.2.2.2.2.1 k1_t174 k1_h87
theorem k1_off696_inb : ∀ (i : grid1.Coords) (v508 : BitVec 32) (v513 : BitVec 32) (k1_hw23 : k1_chk23 i v508 v513) (k1_t174 : Fin (k1_t174_loop i v508 v513).trips), ∀ (k1_h87 : k1_cond87 i v508 v513 = 1#1), ∀ a, (k1_off696 i v508 v513 k1_t174) a + S1x16.size a ≤ S256x128.size a := fun i v508 v513 k1_hw23 k1_t174 k1_h87 => k1_hw23.1.2.2.2.2.2.2.2.2.2.2.2.2.2.2.2.2.2.2.2.2.2.2.2.2.2.2.2.1 k1_t174 k1_h87
theorem k1_off697_inb : ∀ (i : grid1.Coords) (v508 : BitVec 32) (v513 : BitVec 32) (k1_hw23 : k1_chk23 i v508 v513) (k1_t174 : Fin (k1_t174_loop i v508 v513).trips), ∀ (k1_h87 : k1_cond87 i v508 v513 = 1#1), ∀ a, (k1_off697 i v508 v513 k1_t174) a + S1x16.size a ≤ S256x128.size a := fun i v508 v513 k1_hw23 k1_t174 k1_h87 => k1_hw23.1.2.2.2.2.2.2.2.2.2.2.2.2.2.2.2.2.2.2.2.2.2.2.2.2.2.2.2.2.1 k1_t174 k1_h87
theorem k1_off698_inb : ∀ (i : grid1.Coords) (v508 : BitVec 32) (v513 : BitVec 32) (k1_hw23 : k1_chk23 i v508 v513) (k1_t174 : Fin (k1_t174_loop i v508 v513).trips), ∀ (k1_h87 : k1_cond87 i v508 v513 = 1#1), ∀ a, (k1_off698 i v508 v513 k1_t174) a + S1x16.size a ≤ S256x128.size a := fun i v508 v513 k1_hw23 k1_t174 k1_h87 => k1_hw23.1.2.2.2.2.2.2.2.2.2.2.2.2.2.2.2.2.2.2.2.2.2.2.2.2.2.2.2.2.2.1 k1_t174 k1_h87
theorem k1_t237_ok : ∀ (i : grid1.Coords) (v508 : BitVec 32) (v513 : BitVec 32) (k1_hw23 : k1_chk23 i v508 v513), ∀ (k1_h119 : k1_cond119 i v508 v513 = 1#1), (k1_t237_loop i v508 v513).OK := fun i v508 v513 k1_hw23 k1_h119 => k1_hw23.1.2.2.2.2.2.2.2.2.2.2.2.2.2.2.2.2.2.2.2.2.2.2.2.2.2.2.2.2.2.2.1 k1_h119
theorem k1_off947_inb : ∀ (i : grid1.Coords) (v508 : BitVec 32) (v513 : BitVec 32) (k1_hw23 : k1_chk23 i v508 v513) (k1_t237 : Fin (k1_t237_loop i v508 v513).trips), ∀ (k1_h119 : k1_cond119 i v508 v513 = 1#1), ∀ a, (k1_off947 i v508 v513 k1_t237) a + S1x16.size a ≤ S256x128.size a := fun i v508 v513 k1_hw23 k1_t237 k1_h119 => k1_hw23.1.2.2.2.2.2.2.2.2.2.2.2.2.2.2.2.2.2.2.2.2.2.2.2.2.2.2.2.2.2.2.2 k1_t237 k1_h119
theorem k1_off948_inb : ∀ (i : grid1.Coords) (v508 : BitVec 32) (v513 : BitVec 32) (k1_hw23 : k1_chk23 i v508 v513) (k1_t237 : Fin (k1_t237_loop i v508 v513).trips), ∀ (k1_h119 : k1_cond119 i v508 v513 = 1#1), ∀ a, (k1_off948 i v508 v513 k1_t237) a + S1x16.size a ≤ S256x128.size a := fun i v508 v513 k1_hw23 k1_t237 k1_h119 => k1_hw23.2.1 k1_t237 k1_h119
theorem k1_off949_inb : ∀ (i : grid1.Coords) (v508 : BitVec 32) (v513 : BitVec 32) (k1_hw23 : k1_chk23 i v508 v513) (k1_t237 : Fin (k1_t237_loop i v508 v513).trips), ∀ (k1_h119 : k1_cond119 i v508 v513 = 1#1), ∀ a, (k1_off949 i v508 v513 k1_t237) a + S1x16.size a ≤ S256x128.size a := fun i v508 v513 k1_hw23 k1_t237 k1_h119 => k1_hw23.2.2.1 k1_t237 k1_h119
theorem k1_off950_inb : ∀ (i : grid1.Coords) (v508 : BitVec 32) (v513 : BitVec 32) (k1_hw23 : k1_chk23 i v508 v513) (k1_t237 : Fin (k1_t237_loop i v508 v513).trips), ∀ (k1_h119 : k1_cond119 i v508 v513 = 1#1), ∀ a, (k1_off950 i v508 v513 k1_t237) a + S1x16.size a ≤ S256x128.size a := fun i v508 v513 k1_hw23 k1_t237 k1_h119 => k1_hw23.2.2.2.1 k1_t237 k1_h119
theorem k1_t238_ok : ∀ (i : grid1.Coords) (v508 : BitVec 32) (v513 : BitVec 32) (k1_hw23 : k1_chk23 i v508 v513), ∀ (k1_h119 : k1_cond119 i v508 v513 = 1#1), (k1_t238_loop i v508 v513).OK := fun i v508 v513 k1_hw23 k1_h119 => k1_hw23.2.2.2.2.1 k1_h119
theorem k1_off951_inb : ∀ (i : grid1.Coords) (v508 : BitVec 32) (v513 : BitVec 32) (k1_hw23 : k1_chk23 i v508 v513) (k1_t238 : Fin (k1_t238_loop i v508 v513).trips), ∀ (k1_h119 : k1_cond119 i v508 v513 = 1#1), ∀ a, (k1_off951 i v508 v513 k1_t238) a + S1x16.size a ≤ S256x128.size a := fun i v508 v513 k1_hw23 k1_t238 k1_h119 => k1_hw23.2.2.2.2.2.1 k1_t238 k1_h119
theorem k1_off952_inb : ∀ (i : grid1.Coords) (v508 : BitVec 32) (v513 : BitVec 32) (k1_hw23 : k1_chk23 i v508 v513) (k1_t238 : Fin (k1_t238_loop i v508 v513).trips), ∀ (k1_h119 : k1_cond119 i v508 v513 = 1#1), ∀ a, (k1_off952 i v508 v513 k1_t238) a + S1x16.size a ≤ S256x128.size a := fun i v508 v513 k1_hw23 k1_t238 k1_h119 => k1_hw23.2.2.2.2.2.2.1 k1_t238 k1_h119
theorem k1_off953_inb : ∀ (i : grid1.Coords) (v508 : BitVec 32) (v513 : BitVec 32) (k1_hw23 : k1_chk23 i v508 v513) (k1_t238 : Fin (k1_t238_loop i v508 v513).trips), ∀ (k1_h119 : k1_cond119 i v508 v513 = 1#1), ∀ a, (k1_off953 i v508 v513 k1_t238) a + S1x16.size a ≤ S256x128.size a := fun i v508 v513 k1_hw23 k1_t238 k1_h119 => k1_hw23.2.2.2.2.2.2.2.1 k1_t238 k1_h119
theorem k1_off954_inb : ∀ (i : grid1.Coords) (v508 : BitVec 32) (v513 : BitVec 32) (k1_hw23 : k1_chk23 i v508 v513) (k1_t238 : Fin (k1_t238_loop i v508 v513).trips), ∀ (k1_h119 : k1_cond119 i v508 v513 = 1#1), ∀ a, (k1_off954 i v508 v513 k1_t238) a + S1x16.size a ≤ S256x128.size a := fun i v508 v513 k1_hw23 k1_t238 k1_h119 => k1_hw23.2.2.2.2.2.2.2.2 k1_t238 k1_h119

@[reducible] def k1_t239_loop (i : grid1.Coords) (v518 : BitVec 32) (v524 : BitVec 32) : Scf.Loop 32 :=
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let c256_i32_1130 : BitVec 32 := 256#32
  let c0_i32_1129 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c768_i32_1128 : BitVec 32 := 768#32
  let v1715 : BitVec 32 := Scalar.subi v528 c768_i32_1128
  let v1716 : BitVec 32 := Scalar.maxsi c0_i32_1129 v1715
  let v1717 : BitVec 32 := Scalar.minsi c256_i32_1130 v1716
  let v1805 : BitVec 32 := Scalar.subi v1717 v1714
  let c1_i32_1196 : BitVec 32 := 1#32
  let v1807 : BitVec 32 := Scalar.divsi v1805 c1_i32_1196
  let v1808 : BitVec 32 := Scalar.muli v1807 c1_i32_1196
  let v1809 : BitVec 32 := Scalar.addi v1714 v1808
  let c1_i32_1197 : BitVec 32 := 1#32
  ⟨v1714, v1809, c1_i32_1197⟩
def k1_cond120 (i : grid1.Coords) (v518 : BitVec 32) (v524 : BitVec 32) : BitVec 1 :=
  let c256_i32_1130 : BitVec 32 := 256#32
  let c0_i32_1129 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v526 : BitVec 32 := Scalar.subi v525 v3
  let v527 : BitVec 32 := Scalar.maxsi c0_i32_229 v526
  let v528 : BitVec 32 := Scalar.minsi c1024_i32_230 v527
  let c768_i32_1128 : BitVec 32 := 768#32
  let v1715 : BitVec 32 := Scalar.subi v528 c768_i32_1128
  let v1716 : BitVec 32 := Scalar.maxsi c0_i32_1129 v1715
  let v1717 : BitVec 32 := Scalar.minsi c256_i32_1130 v1716
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let v1718 : BitVec 1 := Scalar.cmpi .sgt v1717 v1714
  let v1719 : BitVec 32 := Scalar.extui v1718
  let c0_i32_1131 : BitVec 32 := 0#32
  let v1720 : BitVec 1 := Scalar.cmpi .ne v1719 c0_i32_1131
  v1720

def k1_off955 (i : grid1.Coords) (v518 : BitVec 32) (v524 : BitVec 32) (k1_t239 : Fin (k1_t239_loop i v518 v524).trips) : Fin 2 → Nat :=
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let c1_i32_1197 : BitVec 32 := 1#32
  let arg13 : BitVec 32 := Scf.iv v1714 c1_i32_1197 k1_t239
  let v1828 : Index := Scalar.indexCast arg13
  let c64 : Index := 64#32
  ![v1828.toNat, 64]
def k1_off956 (i : grid1.Coords) (v518 : BitVec 32) (v524 : BitVec 32) (k1_t239 : Fin (k1_t239_loop i v518 v524).trips) : Fin 2 → Nat :=
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let c1_i32_1197 : BitVec 32 := 1#32
  let arg13 : BitVec 32 := Scf.iv v1714 c1_i32_1197 k1_t239
  let v1832 : Index := Scalar.indexCast arg13
  let c80 : Index := 80#32
  ![v1832.toNat, 80]
def k1_off957 (i : grid1.Coords) (v518 : BitVec 32) (v524 : BitVec 32) (k1_t239 : Fin (k1_t239_loop i v518 v524).trips) : Fin 2 → Nat :=
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let c1_i32_1197 : BitVec 32 := 1#32
  let arg13 : BitVec 32 := Scf.iv v1714 c1_i32_1197 k1_t239
  let v1836 : Index := Scalar.indexCast arg13
  let c96 : Index := 96#32
  ![v1836.toNat, 96]
def k1_off958 (i : grid1.Coords) (v518 : BitVec 32) (v524 : BitVec 32) (k1_t239 : Fin (k1_t239_loop i v518 v524).trips) : Fin 2 → Nat :=
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let c1_i32_1197 : BitVec 32 := 1#32
  let arg13 : BitVec 32 := Scf.iv v1714 c1_i32_1197 k1_t239
  let v1840 : Index := Scalar.indexCast arg13
  let c112 : Index := 112#32
  ![v1840.toNat, 112]
@[reducible] def k1_t240_loop (i : grid1.Coords) (v518 : BitVec 32) (v524 : BitVec 32) : Scf.Loop 32 :=
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let c256_i32_1130 : BitVec 32 := 256#32
  let c0_i32_1129 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c768_i32_1128 : BitVec 32 := 768#32
  let v1715 : BitVec 32 := Scalar.subi v528 c768_i32_1128
  let v1716 : BitVec 32 := Scalar.maxsi c0_i32_1129 v1715
  let v1717 : BitVec 32 := Scalar.minsi c256_i32_1130 v1716
  let v1805 : BitVec 32 := Scalar.subi v1717 v1714
  let c1_i32_1196 : BitVec 32 := 1#32
  let v1807 : BitVec 32 := Scalar.divsi v1805 c1_i32_1196
  let v1808 : BitVec 32 := Scalar.muli v1807 c1_i32_1196
  let v1809 : BitVec 32 := Scalar.addi v1714 v1808
  let v1806 : BitVec 32 := Scalar.addi v1714 v1805
  let c1_i32_1198 : BitVec 32 := 1#32
  ⟨v1809, v1806, c1_i32_1198⟩
def k1_off959 (i : grid1.Coords) (v518 : BitVec 32) (v524 : BitVec 32) (k1_t240 : Fin (k1_t240_loop i v518 v524).trips) : Fin 2 → Nat :=
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let c256_i32_1130 : BitVec 32 := 256#32
  let c0_i32_1129 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c768_i32_1128 : BitVec 32 := 768#32
  let v1715 : BitVec 32 := Scalar.subi v528 c768_i32_1128
  let v1716 : BitVec 32 := Scalar.maxsi c0_i32_1129 v1715
  let v1717 : BitVec 32 := Scalar.minsi c256_i32_1130 v1716
  let v1805 : BitVec 32 := Scalar.subi v1717 v1714
  let c1_i32_1196 : BitVec 32 := 1#32
  let v1807 : BitVec 32 := Scalar.divsi v1805 c1_i32_1196
  let v1808 : BitVec 32 := Scalar.muli v1807 c1_i32_1196
  let v1809 : BitVec 32 := Scalar.addi v1714 v1808
  let c1_i32_1198 : BitVec 32 := 1#32
  let arg13 : BitVec 32 := Scf.iv v1809 c1_i32_1198 k1_t240
  let v1828 : Index := Scalar.indexCast arg13
  let c64 : Index := 64#32
  ![v1828.toNat, 64]
def k1_off960 (i : grid1.Coords) (v518 : BitVec 32) (v524 : BitVec 32) (k1_t240 : Fin (k1_t240_loop i v518 v524).trips) : Fin 2 → Nat :=
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let c256_i32_1130 : BitVec 32 := 256#32
  let c0_i32_1129 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c768_i32_1128 : BitVec 32 := 768#32
  let v1715 : BitVec 32 := Scalar.subi v528 c768_i32_1128
  let v1716 : BitVec 32 := Scalar.maxsi c0_i32_1129 v1715
  let v1717 : BitVec 32 := Scalar.minsi c256_i32_1130 v1716
  let v1805 : BitVec 32 := Scalar.subi v1717 v1714
  let c1_i32_1196 : BitVec 32 := 1#32
  let v1807 : BitVec 32 := Scalar.divsi v1805 c1_i32_1196
  let v1808 : BitVec 32 := Scalar.muli v1807 c1_i32_1196
  let v1809 : BitVec 32 := Scalar.addi v1714 v1808
  let c1_i32_1198 : BitVec 32 := 1#32
  let arg13 : BitVec 32 := Scf.iv v1809 c1_i32_1198 k1_t240
  let v1832 : Index := Scalar.indexCast arg13
  let c80 : Index := 80#32
  ![v1832.toNat, 80]
def k1_off961 (i : grid1.Coords) (v518 : BitVec 32) (v524 : BitVec 32) (k1_t240 : Fin (k1_t240_loop i v518 v524).trips) : Fin 2 → Nat :=
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let c256_i32_1130 : BitVec 32 := 256#32
  let c0_i32_1129 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c768_i32_1128 : BitVec 32 := 768#32
  let v1715 : BitVec 32 := Scalar.subi v528 c768_i32_1128
  let v1716 : BitVec 32 := Scalar.maxsi c0_i32_1129 v1715
  let v1717 : BitVec 32 := Scalar.minsi c256_i32_1130 v1716
  let v1805 : BitVec 32 := Scalar.subi v1717 v1714
  let c1_i32_1196 : BitVec 32 := 1#32
  let v1807 : BitVec 32 := Scalar.divsi v1805 c1_i32_1196
  let v1808 : BitVec 32 := Scalar.muli v1807 c1_i32_1196
  let v1809 : BitVec 32 := Scalar.addi v1714 v1808
  let c1_i32_1198 : BitVec 32 := 1#32
  let arg13 : BitVec 32 := Scf.iv v1809 c1_i32_1198 k1_t240
  let v1836 : Index := Scalar.indexCast arg13
  let c96 : Index := 96#32
  ![v1836.toNat, 96]
def k1_off962 (i : grid1.Coords) (v518 : BitVec 32) (v524 : BitVec 32) (k1_t240 : Fin (k1_t240_loop i v518 v524).trips) : Fin 2 → Nat :=
  let c256_i32_1127 : BitVec 32 := 256#32
  let c0_i32_1126 : BitVec 32 := 0#32
  let c1024_i32_227 : BitVec 32 := 1024#32
  let c0_i32_226 : BitVec 32 := 0#32
  let c65536_i32_225 : BitVec 32 := 65536#32
  let v519 : BitVec 32 := Scalar.subi v518 c65536_i32_225
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v520 : BitVec 32 := Scalar.subi v519 v3
  let v521 : BitVec 32 := Scalar.maxsi c0_i32_226 v520
  let v522 : BitVec 32 := Scalar.minsi c1024_i32_227 v521
  let c768_i32_1125 : BitVec 32 := 768#32
  let v1712 : BitVec 32 := Scalar.subi v522 c768_i32_1125
  let v1713 : BitVec 32 := Scalar.maxsi c0_i32_1126 v1712
  let v1714 : BitVec 32 := Scalar.minsi c256_i32_1127 v1713
  let c256_i32_1130 : BitVec 32 := 256#32
  let c0_i32_1129 : BitVec 32 := 0#32
  let c1024_i32_230 : BitVec 32 := 1024#32
  let c0_i32_229 : BitVec 32 := 0#32
  let c65536_i32_228 : BitVec 32 := 65536#32
  let v525 : BitVec 32 := Scalar.subi v524 c65536_i32_228
  let v526 : BitVec 32 := Scalar.subi v525 v3
  let v527 : BitVec 32 := Scalar.maxsi c0_i32_229 v526
  let v528 : BitVec 32 := Scalar.minsi c1024_i32_230 v527
  let c768_i32_1128 : BitVec 32 := 768#32
  let v1715 : BitVec 32 := Scalar.subi v528 c768_i32_1128
  let v1716 : BitVec 32 := Scalar.maxsi c0_i32_1129 v1715
  let v1717 : BitVec 32 := Scalar.minsi c256_i32_1130 v1716
  let v1805 : BitVec 32 := Scalar.subi v1717 v1714
  let c1_i32_1196 : BitVec 32 := 1#32
  let v1807 : BitVec 32 := Scalar.divsi v1805 c1_i32_1196
  let v1808 : BitVec 32 := Scalar.muli v1807 c1_i32_1196
  let v1809 : BitVec 32 := Scalar.addi v1714 v1808
  let c1_i32_1198 : BitVec 32 := 1#32
  let arg13 : BitVec 32 := Scf.iv v1809 c1_i32_1198 k1_t240
  let v1840 : Index := Scalar.indexCast arg13
  let c112 : Index := 112#32
  ![v1840.toNat, 112]

def k1_chk24_0 (i : grid1.Coords) (v518 : BitVec 32) (v524 : BitVec 32) : Prop :=
  (∀ (k1_h24 : k1_cond24 i v518 v524 = 1#1), (k1_t47_loop i v518 v524).OK) ∧
  (∀ k1_t47 : Fin (k1_t47_loop i v518 v524).trips, ∀ (k1_h24 : k1_cond24 i v518 v524 = 1#1), ∀ a, (k1_off186 i v518 v524 k1_t47) a + S1x16.size a ≤ S256x128.size a) ∧
  (∀ k1_t47 : Fin (k1_t47_loop i v518 v524).trips, ∀ (k1_h24 : k1_cond24 i v518 v524 = 1#1), ∀ a, (k1_off187 i v518 v524 k1_t47) a + S1x16.size a ≤ S256x128.size a) ∧
  (∀ k1_t47 : Fin (k1_t47_loop i v518 v524).trips, ∀ (k1_h24 : k1_cond24 i v518 v524 = 1#1), ∀ a, (k1_off188 i v518 v524 k1_t47) a + S1x16.size a ≤ S256x128.size a) ∧
  (∀ k1_t47 : Fin (k1_t47_loop i v518 v524).trips, ∀ (k1_h24 : k1_cond24 i v518 v524 = 1#1), ∀ a, (k1_off189 i v518 v524 k1_t47) a + S1x16.size a ≤ S256x128.size a) ∧
  (∀ (k1_h24 : k1_cond24 i v518 v524 = 1#1), (k1_t48_loop i v518 v524).OK) ∧
  (∀ k1_t48 : Fin (k1_t48_loop i v518 v524).trips, ∀ (k1_h24 : k1_cond24 i v518 v524 = 1#1), ∀ a, (k1_off190 i v518 v524 k1_t48) a + S1x16.size a ≤ S256x128.size a) ∧
  (∀ k1_t48 : Fin (k1_t48_loop i v518 v524).trips, ∀ (k1_h24 : k1_cond24 i v518 v524 = 1#1), ∀ a, (k1_off191 i v518 v524 k1_t48) a + S1x16.size a ≤ S256x128.size a) ∧
  (∀ k1_t48 : Fin (k1_t48_loop i v518 v524).trips, ∀ (k1_h24 : k1_cond24 i v518 v524 = 1#1), ∀ a, (k1_off192 i v518 v524 k1_t48) a + S1x16.size a ≤ S256x128.size a) ∧
  (∀ k1_t48 : Fin (k1_t48_loop i v518 v524).trips, ∀ (k1_h24 : k1_cond24 i v518 v524 = 1#1), ∀ a, (k1_off193 i v518 v524 k1_t48) a + S1x16.size a ≤ S256x128.size a) ∧
  (∀ (k1_h56 : k1_cond56 i v518 v524 = 1#1), (k1_t111_loop i v518 v524).OK) ∧
  (∀ k1_t111 : Fin (k1_t111_loop i v518 v524).trips, ∀ (k1_h56 : k1_cond56 i v518 v524 = 1#1), ∀ a, (k1_off443 i v518 v524 k1_t111) a + S1x16.size a ≤ S256x128.size a) ∧
  (∀ k1_t111 : Fin (k1_t111_loop i v518 v524).trips, ∀ (k1_h56 : k1_cond56 i v518 v524 = 1#1), ∀ a, (k1_off444 i v518 v524 k1_t111) a + S1x16.size a ≤ S256x128.size a) ∧
  (∀ k1_t111 : Fin (k1_t111_loop i v518 v524).trips, ∀ (k1_h56 : k1_cond56 i v518 v524 = 1#1), ∀ a, (k1_off445 i v518 v524 k1_t111) a + S1x16.size a ≤ S256x128.size a) ∧
  (∀ k1_t111 : Fin (k1_t111_loop i v518 v524).trips, ∀ (k1_h56 : k1_cond56 i v518 v524 = 1#1), ∀ a, (k1_off446 i v518 v524 k1_t111) a + S1x16.size a ≤ S256x128.size a) ∧
  (∀ (k1_h56 : k1_cond56 i v518 v524 = 1#1), (k1_t112_loop i v518 v524).OK) ∧
  (∀ k1_t112 : Fin (k1_t112_loop i v518 v524).trips, ∀ (k1_h56 : k1_cond56 i v518 v524 = 1#1), ∀ a, (k1_off447 i v518 v524 k1_t112) a + S1x16.size a ≤ S256x128.size a) ∧
  (∀ k1_t112 : Fin (k1_t112_loop i v518 v524).trips, ∀ (k1_h56 : k1_cond56 i v518 v524 = 1#1), ∀ a, (k1_off448 i v518 v524 k1_t112) a + S1x16.size a ≤ S256x128.size a) ∧
  (∀ k1_t112 : Fin (k1_t112_loop i v518 v524).trips, ∀ (k1_h56 : k1_cond56 i v518 v524 = 1#1), ∀ a, (k1_off449 i v518 v524 k1_t112) a + S1x16.size a ≤ S256x128.size a) ∧
  (∀ k1_t112 : Fin (k1_t112_loop i v518 v524).trips, ∀ (k1_h56 : k1_cond56 i v518 v524 = 1#1), ∀ a, (k1_off450 i v518 v524 k1_t112) a + S1x16.size a ≤ S256x128.size a) ∧
  (∀ (k1_h88 : k1_cond88 i v518 v524 = 1#1), (k1_t175_loop i v518 v524).OK) ∧
  (∀ k1_t175 : Fin (k1_t175_loop i v518 v524).trips, ∀ (k1_h88 : k1_cond88 i v518 v524 = 1#1), ∀ a, (k1_off699 i v518 v524 k1_t175) a + S1x16.size a ≤ S256x128.size a) ∧
  (∀ k1_t175 : Fin (k1_t175_loop i v518 v524).trips, ∀ (k1_h88 : k1_cond88 i v518 v524 = 1#1), ∀ a, (k1_off700 i v518 v524 k1_t175) a + S1x16.size a ≤ S256x128.size a) ∧
  (∀ k1_t175 : Fin (k1_t175_loop i v518 v524).trips, ∀ (k1_h88 : k1_cond88 i v518 v524 = 1#1), ∀ a, (k1_off701 i v518 v524 k1_t175) a + S1x16.size a ≤ S256x128.size a) ∧
  (∀ k1_t175 : Fin (k1_t175_loop i v518 v524).trips, ∀ (k1_h88 : k1_cond88 i v518 v524 = 1#1), ∀ a, (k1_off702 i v518 v524 k1_t175) a + S1x16.size a ≤ S256x128.size a) ∧
  (∀ (k1_h88 : k1_cond88 i v518 v524 = 1#1), (k1_t176_loop i v518 v524).OK) ∧
  (∀ k1_t176 : Fin (k1_t176_loop i v518 v524).trips, ∀ (k1_h88 : k1_cond88 i v518 v524 = 1#1), ∀ a, (k1_off703 i v518 v524 k1_t176) a + S1x16.size a ≤ S256x128.size a) ∧
  (∀ k1_t176 : Fin (k1_t176_loop i v518 v524).trips, ∀ (k1_h88 : k1_cond88 i v518 v524 = 1#1), ∀ a, (k1_off704 i v518 v524 k1_t176) a + S1x16.size a ≤ S256x128.size a) ∧
  (∀ k1_t176 : Fin (k1_t176_loop i v518 v524).trips, ∀ (k1_h88 : k1_cond88 i v518 v524 = 1#1), ∀ a, (k1_off705 i v518 v524 k1_t176) a + S1x16.size a ≤ S256x128.size a) ∧
  (∀ k1_t176 : Fin (k1_t176_loop i v518 v524).trips, ∀ (k1_h88 : k1_cond88 i v518 v524 = 1#1), ∀ a, (k1_off706 i v518 v524 k1_t176) a + S1x16.size a ≤ S256x128.size a) ∧
  (∀ (k1_h120 : k1_cond120 i v518 v524 = 1#1), (k1_t239_loop i v518 v524).OK) ∧
  (∀ k1_t239 : Fin (k1_t239_loop i v518 v524).trips, ∀ (k1_h120 : k1_cond120 i v518 v524 = 1#1), ∀ a, (k1_off955 i v518 v524 k1_t239) a + S1x16.size a ≤ S256x128.size a)
def k1_chk24_1 (i : grid1.Coords) (v518 : BitVec 32) (v524 : BitVec 32) : Prop :=
  (∀ k1_t239 : Fin (k1_t239_loop i v518 v524).trips, ∀ (k1_h120 : k1_cond120 i v518 v524 = 1#1), ∀ a, (k1_off956 i v518 v524 k1_t239) a + S1x16.size a ≤ S256x128.size a) ∧
  (∀ k1_t239 : Fin (k1_t239_loop i v518 v524).trips, ∀ (k1_h120 : k1_cond120 i v518 v524 = 1#1), ∀ a, (k1_off957 i v518 v524 k1_t239) a + S1x16.size a ≤ S256x128.size a) ∧
  (∀ k1_t239 : Fin (k1_t239_loop i v518 v524).trips, ∀ (k1_h120 : k1_cond120 i v518 v524 = 1#1), ∀ a, (k1_off958 i v518 v524 k1_t239) a + S1x16.size a ≤ S256x128.size a) ∧
  (∀ (k1_h120 : k1_cond120 i v518 v524 = 1#1), (k1_t240_loop i v518 v524).OK) ∧
  (∀ k1_t240 : Fin (k1_t240_loop i v518 v524).trips, ∀ (k1_h120 : k1_cond120 i v518 v524 = 1#1), ∀ a, (k1_off959 i v518 v524 k1_t240) a + S1x16.size a ≤ S256x128.size a) ∧
  (∀ k1_t240 : Fin (k1_t240_loop i v518 v524).trips, ∀ (k1_h120 : k1_cond120 i v518 v524 = 1#1), ∀ a, (k1_off960 i v518 v524 k1_t240) a + S1x16.size a ≤ S256x128.size a) ∧
  (∀ k1_t240 : Fin (k1_t240_loop i v518 v524).trips, ∀ (k1_h120 : k1_cond120 i v518 v524 = 1#1), ∀ a, (k1_off961 i v518 v524 k1_t240) a + S1x16.size a ≤ S256x128.size a) ∧
  (∀ k1_t240 : Fin (k1_t240_loop i v518 v524).trips, ∀ (k1_h120 : k1_cond120 i v518 v524 = 1#1), ∀ a, (k1_off962 i v518 v524 k1_t240) a + S1x16.size a ≤ S256x128.size a)
def k1_chk24 (i : grid1.Coords) (v518 : BitVec 32) (v524 : BitVec 32) : Prop :=
  k1_chk24_0 i v518 v524 ∧
  k1_chk24_1 i v518 v524
theorem k1_t47_ok : ∀ (i : grid1.Coords) (v518 : BitVec 32) (v524 : BitVec 32) (k1_hw24 : k1_chk24 i v518 v524), ∀ (k1_h24 : k1_cond24 i v518 v524 = 1#1), (k1_t47_loop i v518 v524).OK := fun i v518 v524 k1_hw24 k1_h24 => k1_hw24.1.1 k1_h24
theorem k1_off186_inb : ∀ (i : grid1.Coords) (v518 : BitVec 32) (v524 : BitVec 32) (k1_hw24 : k1_chk24 i v518 v524) (k1_t47 : Fin (k1_t47_loop i v518 v524).trips), ∀ (k1_h24 : k1_cond24 i v518 v524 = 1#1), ∀ a, (k1_off186 i v518 v524 k1_t47) a + S1x16.size a ≤ S256x128.size a := fun i v518 v524 k1_hw24 k1_t47 k1_h24 => k1_hw24.1.2.1 k1_t47 k1_h24
theorem k1_off187_inb : ∀ (i : grid1.Coords) (v518 : BitVec 32) (v524 : BitVec 32) (k1_hw24 : k1_chk24 i v518 v524) (k1_t47 : Fin (k1_t47_loop i v518 v524).trips), ∀ (k1_h24 : k1_cond24 i v518 v524 = 1#1), ∀ a, (k1_off187 i v518 v524 k1_t47) a + S1x16.size a ≤ S256x128.size a := fun i v518 v524 k1_hw24 k1_t47 k1_h24 => k1_hw24.1.2.2.1 k1_t47 k1_h24
theorem k1_off188_inb : ∀ (i : grid1.Coords) (v518 : BitVec 32) (v524 : BitVec 32) (k1_hw24 : k1_chk24 i v518 v524) (k1_t47 : Fin (k1_t47_loop i v518 v524).trips), ∀ (k1_h24 : k1_cond24 i v518 v524 = 1#1), ∀ a, (k1_off188 i v518 v524 k1_t47) a + S1x16.size a ≤ S256x128.size a := fun i v518 v524 k1_hw24 k1_t47 k1_h24 => k1_hw24.1.2.2.2.1 k1_t47 k1_h24
theorem k1_off189_inb : ∀ (i : grid1.Coords) (v518 : BitVec 32) (v524 : BitVec 32) (k1_hw24 : k1_chk24 i v518 v524) (k1_t47 : Fin (k1_t47_loop i v518 v524).trips), ∀ (k1_h24 : k1_cond24 i v518 v524 = 1#1), ∀ a, (k1_off189 i v518 v524 k1_t47) a + S1x16.size a ≤ S256x128.size a := fun i v518 v524 k1_hw24 k1_t47 k1_h24 => k1_hw24.1.2.2.2.2.1 k1_t47 k1_h24
theorem k1_t48_ok : ∀ (i : grid1.Coords) (v518 : BitVec 32) (v524 : BitVec 32) (k1_hw24 : k1_chk24 i v518 v524), ∀ (k1_h24 : k1_cond24 i v518 v524 = 1#1), (k1_t48_loop i v518 v524).OK := fun i v518 v524 k1_hw24 k1_h24 => k1_hw24.1.2.2.2.2.2.1 k1_h24
theorem k1_off190_inb : ∀ (i : grid1.Coords) (v518 : BitVec 32) (v524 : BitVec 32) (k1_hw24 : k1_chk24 i v518 v524) (k1_t48 : Fin (k1_t48_loop i v518 v524).trips), ∀ (k1_h24 : k1_cond24 i v518 v524 = 1#1), ∀ a, (k1_off190 i v518 v524 k1_t48) a + S1x16.size a ≤ S256x128.size a := fun i v518 v524 k1_hw24 k1_t48 k1_h24 => k1_hw24.1.2.2.2.2.2.2.1 k1_t48 k1_h24
theorem k1_off191_inb : ∀ (i : grid1.Coords) (v518 : BitVec 32) (v524 : BitVec 32) (k1_hw24 : k1_chk24 i v518 v524) (k1_t48 : Fin (k1_t48_loop i v518 v524).trips), ∀ (k1_h24 : k1_cond24 i v518 v524 = 1#1), ∀ a, (k1_off191 i v518 v524 k1_t48) a + S1x16.size a ≤ S256x128.size a := fun i v518 v524 k1_hw24 k1_t48 k1_h24 => k1_hw24.1.2.2.2.2.2.2.2.1 k1_t48 k1_h24
theorem k1_off192_inb : ∀ (i : grid1.Coords) (v518 : BitVec 32) (v524 : BitVec 32) (k1_hw24 : k1_chk24 i v518 v524) (k1_t48 : Fin (k1_t48_loop i v518 v524).trips), ∀ (k1_h24 : k1_cond24 i v518 v524 = 1#1), ∀ a, (k1_off192 i v518 v524 k1_t48) a + S1x16.size a ≤ S256x128.size a := fun i v518 v524 k1_hw24 k1_t48 k1_h24 => k1_hw24.1.2.2.2.2.2.2.2.2.1 k1_t48 k1_h24
theorem k1_off193_inb : ∀ (i : grid1.Coords) (v518 : BitVec 32) (v524 : BitVec 32) (k1_hw24 : k1_chk24 i v518 v524) (k1_t48 : Fin (k1_t48_loop i v518 v524).trips), ∀ (k1_h24 : k1_cond24 i v518 v524 = 1#1), ∀ a, (k1_off193 i v518 v524 k1_t48) a + S1x16.size a ≤ S256x128.size a := fun i v518 v524 k1_hw24 k1_t48 k1_h24 => k1_hw24.1.2.2.2.2.2.2.2.2.2.1 k1_t48 k1_h24
theorem k1_t111_ok : ∀ (i : grid1.Coords) (v518 : BitVec 32) (v524 : BitVec 32) (k1_hw24 : k1_chk24 i v518 v524), ∀ (k1_h56 : k1_cond56 i v518 v524 = 1#1), (k1_t111_loop i v518 v524).OK := fun i v518 v524 k1_hw24 k1_h56 => k1_hw24.1.2.2.2.2.2.2.2.2.2.2.1 k1_h56
theorem k1_off443_inb : ∀ (i : grid1.Coords) (v518 : BitVec 32) (v524 : BitVec 32) (k1_hw24 : k1_chk24 i v518 v524) (k1_t111 : Fin (k1_t111_loop i v518 v524).trips), ∀ (k1_h56 : k1_cond56 i v518 v524 = 1#1), ∀ a, (k1_off443 i v518 v524 k1_t111) a + S1x16.size a ≤ S256x128.size a := fun i v518 v524 k1_hw24 k1_t111 k1_h56 => k1_hw24.1.2.2.2.2.2.2.2.2.2.2.2.1 k1_t111 k1_h56
theorem k1_off444_inb : ∀ (i : grid1.Coords) (v518 : BitVec 32) (v524 : BitVec 32) (k1_hw24 : k1_chk24 i v518 v524) (k1_t111 : Fin (k1_t111_loop i v518 v524).trips), ∀ (k1_h56 : k1_cond56 i v518 v524 = 1#1), ∀ a, (k1_off444 i v518 v524 k1_t111) a + S1x16.size a ≤ S256x128.size a := fun i v518 v524 k1_hw24 k1_t111 k1_h56 => k1_hw24.1.2.2.2.2.2.2.2.2.2.2.2.2.1 k1_t111 k1_h56
theorem k1_off445_inb : ∀ (i : grid1.Coords) (v518 : BitVec 32) (v524 : BitVec 32) (k1_hw24 : k1_chk24 i v518 v524) (k1_t111 : Fin (k1_t111_loop i v518 v524).trips), ∀ (k1_h56 : k1_cond56 i v518 v524 = 1#1), ∀ a, (k1_off445 i v518 v524 k1_t111) a + S1x16.size a ≤ S256x128.size a := fun i v518 v524 k1_hw24 k1_t111 k1_h56 => k1_hw24.1.2.2.2.2.2.2.2.2.2.2.2.2.2.1 k1_t111 k1_h56
theorem k1_off446_inb : ∀ (i : grid1.Coords) (v518 : BitVec 32) (v524 : BitVec 32) (k1_hw24 : k1_chk24 i v518 v524) (k1_t111 : Fin (k1_t111_loop i v518 v524).trips), ∀ (k1_h56 : k1_cond56 i v518 v524 = 1#1), ∀ a, (k1_off446 i v518 v524 k1_t111) a + S1x16.size a ≤ S256x128.size a := fun i v518 v524 k1_hw24 k1_t111 k1_h56 => k1_hw24.1.2.2.2.2.2.2.2.2.2.2.2.2.2.2.1 k1_t111 k1_h56
theorem k1_t112_ok : ∀ (i : grid1.Coords) (v518 : BitVec 32) (v524 : BitVec 32) (k1_hw24 : k1_chk24 i v518 v524), ∀ (k1_h56 : k1_cond56 i v518 v524 = 1#1), (k1_t112_loop i v518 v524).OK := fun i v518 v524 k1_hw24 k1_h56 => k1_hw24.1.2.2.2.2.2.2.2.2.2.2.2.2.2.2.2.1 k1_h56
theorem k1_off447_inb : ∀ (i : grid1.Coords) (v518 : BitVec 32) (v524 : BitVec 32) (k1_hw24 : k1_chk24 i v518 v524) (k1_t112 : Fin (k1_t112_loop i v518 v524).trips), ∀ (k1_h56 : k1_cond56 i v518 v524 = 1#1), ∀ a, (k1_off447 i v518 v524 k1_t112) a + S1x16.size a ≤ S256x128.size a := fun i v518 v524 k1_hw24 k1_t112 k1_h56 => k1_hw24.1.2.2.2.2.2.2.2.2.2.2.2.2.2.2.2.2.1 k1_t112 k1_h56
theorem k1_off448_inb : ∀ (i : grid1.Coords) (v518 : BitVec 32) (v524 : BitVec 32) (k1_hw24 : k1_chk24 i v518 v524) (k1_t112 : Fin (k1_t112_loop i v518 v524).trips), ∀ (k1_h56 : k1_cond56 i v518 v524 = 1#1), ∀ a, (k1_off448 i v518 v524 k1_t112) a + S1x16.size a ≤ S256x128.size a := fun i v518 v524 k1_hw24 k1_t112 k1_h56 => k1_hw24.1.2.2.2.2.2.2.2.2.2.2.2.2.2.2.2.2.2.1 k1_t112 k1_h56
theorem k1_off449_inb : ∀ (i : grid1.Coords) (v518 : BitVec 32) (v524 : BitVec 32) (k1_hw24 : k1_chk24 i v518 v524) (k1_t112 : Fin (k1_t112_loop i v518 v524).trips), ∀ (k1_h56 : k1_cond56 i v518 v524 = 1#1), ∀ a, (k1_off449 i v518 v524 k1_t112) a + S1x16.size a ≤ S256x128.size a := fun i v518 v524 k1_hw24 k1_t112 k1_h56 => k1_hw24.1.2.2.2.2.2.2.2.2.2.2.2.2.2.2.2.2.2.2.1 k1_t112 k1_h56
theorem k1_off450_inb : ∀ (i : grid1.Coords) (v518 : BitVec 32) (v524 : BitVec 32) (k1_hw24 : k1_chk24 i v518 v524) (k1_t112 : Fin (k1_t112_loop i v518 v524).trips), ∀ (k1_h56 : k1_cond56 i v518 v524 = 1#1), ∀ a, (k1_off450 i v518 v524 k1_t112) a + S1x16.size a ≤ S256x128.size a := fun i v518 v524 k1_hw24 k1_t112 k1_h56 => k1_hw24.1.2.2.2.2.2.2.2.2.2.2.2.2.2.2.2.2.2.2.2.1 k1_t112 k1_h56
theorem k1_t175_ok : ∀ (i : grid1.Coords) (v518 : BitVec 32) (v524 : BitVec 32) (k1_hw24 : k1_chk24 i v518 v524), ∀ (k1_h88 : k1_cond88 i v518 v524 = 1#1), (k1_t175_loop i v518 v524).OK := fun i v518 v524 k1_hw24 k1_h88 => k1_hw24.1.2.2.2.2.2.2.2.2.2.2.2.2.2.2.2.2.2.2.2.2.1 k1_h88
theorem k1_off699_inb : ∀ (i : grid1.Coords) (v518 : BitVec 32) (v524 : BitVec 32) (k1_hw24 : k1_chk24 i v518 v524) (k1_t175 : Fin (k1_t175_loop i v518 v524).trips), ∀ (k1_h88 : k1_cond88 i v518 v524 = 1#1), ∀ a, (k1_off699 i v518 v524 k1_t175) a + S1x16.size a ≤ S256x128.size a := fun i v518 v524 k1_hw24 k1_t175 k1_h88 => k1_hw24.1.2.2.2.2.2.2.2.2.2.2.2.2.2.2.2.2.2.2.2.2.2.1 k1_t175 k1_h88
theorem k1_off700_inb : ∀ (i : grid1.Coords) (v518 : BitVec 32) (v524 : BitVec 32) (k1_hw24 : k1_chk24 i v518 v524) (k1_t175 : Fin (k1_t175_loop i v518 v524).trips), ∀ (k1_h88 : k1_cond88 i v518 v524 = 1#1), ∀ a, (k1_off700 i v518 v524 k1_t175) a + S1x16.size a ≤ S256x128.size a := fun i v518 v524 k1_hw24 k1_t175 k1_h88 => k1_hw24.1.2.2.2.2.2.2.2.2.2.2.2.2.2.2.2.2.2.2.2.2.2.2.1 k1_t175 k1_h88
theorem k1_off701_inb : ∀ (i : grid1.Coords) (v518 : BitVec 32) (v524 : BitVec 32) (k1_hw24 : k1_chk24 i v518 v524) (k1_t175 : Fin (k1_t175_loop i v518 v524).trips), ∀ (k1_h88 : k1_cond88 i v518 v524 = 1#1), ∀ a, (k1_off701 i v518 v524 k1_t175) a + S1x16.size a ≤ S256x128.size a := fun i v518 v524 k1_hw24 k1_t175 k1_h88 => k1_hw24.1.2.2.2.2.2.2.2.2.2.2.2.2.2.2.2.2.2.2.2.2.2.2.2.1 k1_t175 k1_h88
theorem k1_off702_inb : ∀ (i : grid1.Coords) (v518 : BitVec 32) (v524 : BitVec 32) (k1_hw24 : k1_chk24 i v518 v524) (k1_t175 : Fin (k1_t175_loop i v518 v524).trips), ∀ (k1_h88 : k1_cond88 i v518 v524 = 1#1), ∀ a, (k1_off702 i v518 v524 k1_t175) a + S1x16.size a ≤ S256x128.size a := fun i v518 v524 k1_hw24 k1_t175 k1_h88 => k1_hw24.1.2.2.2.2.2.2.2.2.2.2.2.2.2.2.2.2.2.2.2.2.2.2.2.2.1 k1_t175 k1_h88
theorem k1_t176_ok : ∀ (i : grid1.Coords) (v518 : BitVec 32) (v524 : BitVec 32) (k1_hw24 : k1_chk24 i v518 v524), ∀ (k1_h88 : k1_cond88 i v518 v524 = 1#1), (k1_t176_loop i v518 v524).OK := fun i v518 v524 k1_hw24 k1_h88 => k1_hw24.1.2.2.2.2.2.2.2.2.2.2.2.2.2.2.2.2.2.2.2.2.2.2.2.2.2.1 k1_h88
theorem k1_off703_inb : ∀ (i : grid1.Coords) (v518 : BitVec 32) (v524 : BitVec 32) (k1_hw24 : k1_chk24 i v518 v524) (k1_t176 : Fin (k1_t176_loop i v518 v524).trips), ∀ (k1_h88 : k1_cond88 i v518 v524 = 1#1), ∀ a, (k1_off703 i v518 v524 k1_t176) a + S1x16.size a ≤ S256x128.size a := fun i v518 v524 k1_hw24 k1_t176 k1_h88 => k1_hw24.1.2.2.2.2.2.2.2.2.2.2.2.2.2.2.2.2.2.2.2.2.2.2.2.2.2.2.1 k1_t176 k1_h88
theorem k1_off704_inb : ∀ (i : grid1.Coords) (v518 : BitVec 32) (v524 : BitVec 32) (k1_hw24 : k1_chk24 i v518 v524) (k1_t176 : Fin (k1_t176_loop i v518 v524).trips), ∀ (k1_h88 : k1_cond88 i v518 v524 = 1#1), ∀ a, (k1_off704 i v518 v524 k1_t176) a + S1x16.size a ≤ S256x128.size a := fun i v518 v524 k1_hw24 k1_t176 k1_h88 => k1_hw24.1.2.2.2.2.2.2.2.2.2.2.2.2.2.2.2.2.2.2.2.2.2.2.2.2.2.2.2.1 k1_t176 k1_h88
theorem k1_off705_inb : ∀ (i : grid1.Coords) (v518 : BitVec 32) (v524 : BitVec 32) (k1_hw24 : k1_chk24 i v518 v524) (k1_t176 : Fin (k1_t176_loop i v518 v524).trips), ∀ (k1_h88 : k1_cond88 i v518 v524 = 1#1), ∀ a, (k1_off705 i v518 v524 k1_t176) a + S1x16.size a ≤ S256x128.size a := fun i v518 v524 k1_hw24 k1_t176 k1_h88 => k1_hw24.1.2.2.2.2.2.2.2.2.2.2.2.2.2.2.2.2.2.2.2.2.2.2.2.2.2.2.2.2.1 k1_t176 k1_h88
theorem k1_off706_inb : ∀ (i : grid1.Coords) (v518 : BitVec 32) (v524 : BitVec 32) (k1_hw24 : k1_chk24 i v518 v524) (k1_t176 : Fin (k1_t176_loop i v518 v524).trips), ∀ (k1_h88 : k1_cond88 i v518 v524 = 1#1), ∀ a, (k1_off706 i v518 v524 k1_t176) a + S1x16.size a ≤ S256x128.size a := fun i v518 v524 k1_hw24 k1_t176 k1_h88 => k1_hw24.1.2.2.2.2.2.2.2.2.2.2.2.2.2.2.2.2.2.2.2.2.2.2.2.2.2.2.2.2.2.1 k1_t176 k1_h88
theorem k1_t239_ok : ∀ (i : grid1.Coords) (v518 : BitVec 32) (v524 : BitVec 32) (k1_hw24 : k1_chk24 i v518 v524), ∀ (k1_h120 : k1_cond120 i v518 v524 = 1#1), (k1_t239_loop i v518 v524).OK := fun i v518 v524 k1_hw24 k1_h120 => k1_hw24.1.2.2.2.2.2.2.2.2.2.2.2.2.2.2.2.2.2.2.2.2.2.2.2.2.2.2.2.2.2.2.1 k1_h120
theorem k1_off955_inb : ∀ (i : grid1.Coords) (v518 : BitVec 32) (v524 : BitVec 32) (k1_hw24 : k1_chk24 i v518 v524) (k1_t239 : Fin (k1_t239_loop i v518 v524).trips), ∀ (k1_h120 : k1_cond120 i v518 v524 = 1#1), ∀ a, (k1_off955 i v518 v524 k1_t239) a + S1x16.size a ≤ S256x128.size a := fun i v518 v524 k1_hw24 k1_t239 k1_h120 => k1_hw24.1.2.2.2.2.2.2.2.2.2.2.2.2.2.2.2.2.2.2.2.2.2.2.2.2.2.2.2.2.2.2.2 k1_t239 k1_h120
theorem k1_off956_inb : ∀ (i : grid1.Coords) (v518 : BitVec 32) (v524 : BitVec 32) (k1_hw24 : k1_chk24 i v518 v524) (k1_t239 : Fin (k1_t239_loop i v518 v524).trips), ∀ (k1_h120 : k1_cond120 i v518 v524 = 1#1), ∀ a, (k1_off956 i v518 v524 k1_t239) a + S1x16.size a ≤ S256x128.size a := fun i v518 v524 k1_hw24 k1_t239 k1_h120 => k1_hw24.2.1 k1_t239 k1_h120
theorem k1_off957_inb : ∀ (i : grid1.Coords) (v518 : BitVec 32) (v524 : BitVec 32) (k1_hw24 : k1_chk24 i v518 v524) (k1_t239 : Fin (k1_t239_loop i v518 v524).trips), ∀ (k1_h120 : k1_cond120 i v518 v524 = 1#1), ∀ a, (k1_off957 i v518 v524 k1_t239) a + S1x16.size a ≤ S256x128.size a := fun i v518 v524 k1_hw24 k1_t239 k1_h120 => k1_hw24.2.2.1 k1_t239 k1_h120
theorem k1_off958_inb : ∀ (i : grid1.Coords) (v518 : BitVec 32) (v524 : BitVec 32) (k1_hw24 : k1_chk24 i v518 v524) (k1_t239 : Fin (k1_t239_loop i v518 v524).trips), ∀ (k1_h120 : k1_cond120 i v518 v524 = 1#1), ∀ a, (k1_off958 i v518 v524 k1_t239) a + S1x16.size a ≤ S256x128.size a := fun i v518 v524 k1_hw24 k1_t239 k1_h120 => k1_hw24.2.2.2.1 k1_t239 k1_h120
theorem k1_t240_ok : ∀ (i : grid1.Coords) (v518 : BitVec 32) (v524 : BitVec 32) (k1_hw24 : k1_chk24 i v518 v524), ∀ (k1_h120 : k1_cond120 i v518 v524 = 1#1), (k1_t240_loop i v518 v524).OK := fun i v518 v524 k1_hw24 k1_h120 => k1_hw24.2.2.2.2.1 k1_h120
theorem k1_off959_inb : ∀ (i : grid1.Coords) (v518 : BitVec 32) (v524 : BitVec 32) (k1_hw24 : k1_chk24 i v518 v524) (k1_t240 : Fin (k1_t240_loop i v518 v524).trips), ∀ (k1_h120 : k1_cond120 i v518 v524 = 1#1), ∀ a, (k1_off959 i v518 v524 k1_t240) a + S1x16.size a ≤ S256x128.size a := fun i v518 v524 k1_hw24 k1_t240 k1_h120 => k1_hw24.2.2.2.2.2.1 k1_t240 k1_h120
theorem k1_off960_inb : ∀ (i : grid1.Coords) (v518 : BitVec 32) (v524 : BitVec 32) (k1_hw24 : k1_chk24 i v518 v524) (k1_t240 : Fin (k1_t240_loop i v518 v524).trips), ∀ (k1_h120 : k1_cond120 i v518 v524 = 1#1), ∀ a, (k1_off960 i v518 v524 k1_t240) a + S1x16.size a ≤ S256x128.size a := fun i v518 v524 k1_hw24 k1_t240 k1_h120 => k1_hw24.2.2.2.2.2.2.1 k1_t240 k1_h120
theorem k1_off961_inb : ∀ (i : grid1.Coords) (v518 : BitVec 32) (v524 : BitVec 32) (k1_hw24 : k1_chk24 i v518 v524) (k1_t240 : Fin (k1_t240_loop i v518 v524).trips), ∀ (k1_h120 : k1_cond120 i v518 v524 = 1#1), ∀ a, (k1_off961 i v518 v524 k1_t240) a + S1x16.size a ≤ S256x128.size a := fun i v518 v524 k1_hw24 k1_t240 k1_h120 => k1_hw24.2.2.2.2.2.2.2.1 k1_t240 k1_h120
theorem k1_off962_inb : ∀ (i : grid1.Coords) (v518 : BitVec 32) (v524 : BitVec 32) (k1_hw24 : k1_chk24 i v518 v524) (k1_t240 : Fin (k1_t240_loop i v518 v524).trips), ∀ (k1_h120 : k1_cond120 i v518 v524 = 1#1), ∀ a, (k1_off962 i v518 v524 k1_t240) a + S1x16.size a ≤ S256x128.size a := fun i v518 v524 k1_hw24 k1_t240 k1_h120 => k1_hw24.2.2.2.2.2.2.2.2 k1_t240 k1_h120

@[reducible] def k1_t241_loop (i : grid1.Coords) (v530 : BitVec 32) (v535 : BitVec 32) : Scf.Loop 32 :=
  let c256_i32_1134 : BitVec 32 := 256#32
  let c0_i32_1133 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let c256_i32_1137 : BitVec 32 := 256#32
  let c0_i32_1136 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c768_i32_1135 : BitVec 32 := 768#32
  let v1724 : BitVec 32 := Scalar.subi v538 c768_i32_1135
  let v1725 : BitVec 32 := Scalar.maxsi c0_i32_1136 v1724
  let v1726 : BitVec 32 := Scalar.minsi c256_i32_1137 v1725
  let v1805 : BitVec 32 := Scalar.subi v1726 v1723
  let c1_i32_1196 : BitVec 32 := 1#32
  let v1807 : BitVec 32 := Scalar.divsi v1805 c1_i32_1196
  let v1808 : BitVec 32 := Scalar.muli v1807 c1_i32_1196
  let v1809 : BitVec 32 := Scalar.addi v1723 v1808
  let c1_i32_1197 : BitVec 32 := 1#32
  ⟨v1723, v1809, c1_i32_1197⟩
def k1_cond121 (i : grid1.Coords) (v530 : BitVec 32) (v535 : BitVec 32) : BitVec 1 :=
  let c256_i32_1137 : BitVec 32 := 256#32
  let c0_i32_1136 : BitVec 32 := 0#32
  let c1024_i32_234 : BitVec 32 := 1024#32
  let c0_i32_233 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v536 : BitVec 32 := Scalar.subi v535 v3
  let v537 : BitVec 32 := Scalar.maxsi c0_i32_233 v536
  let v538 : BitVec 32 := Scalar.minsi c1024_i32_234 v537
  let c768_i32_1135 : BitVec 32 := 768#32
  let v1724 : BitVec 32 := Scalar.subi v538 c768_i32_1135
  let v1725 : BitVec 32 := Scalar.maxsi c0_i32_1136 v1724
  let v1726 : BitVec 32 := Scalar.minsi c256_i32_1137 v1725
  let c256_i32_1134 : BitVec 32 := 256#32
  let c0_i32_1133 : BitVec 32 := 0#32
  let c1024_i32_232 : BitVec 32 := 1024#32
  let c0_i32_231 : BitVec 32 := 0#32
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let v1727 : BitVec 1 := Scalar.cmpi .sgt v1726 v1723
  let v1728 : BitVec 32 := Scalar.extui v1727
  let c0_i32_1138 : BitVec 32 := 0#32
  let v1729 : BitVec 1 := Scalar.cmpi .ne v1728 c0_i32_1138
  v1729

def k1_off963 (i : grid1.Coords) (v530 : BitVec 32) (v535 : BitVec 32) (k1_t241 : Fin (k1_t241_loop i v530 v535).trips) : Fin 2 → Nat :=
  let c256_i32_1134 : BitVec 32 := 256#32
  let c0_i32_1133 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let c1_i32_1197 : BitVec 32 := 1#32
  let arg13 : BitVec 32 := Scf.iv v1723 c1_i32_1197 k1_t241
  let v1828 : Index := Scalar.indexCast arg13
  let c0_1207 : Index := 0#32
  ![v1828.toNat, 0]
def k1_off964 (i : grid1.Coords) (v530 : BitVec 32) (v535 : BitVec 32) (k1_t241 : Fin (k1_t241_loop i v530 v535).trips) : Fin 2 → Nat :=
  let c256_i32_1134 : BitVec 32 := 256#32
  let c0_i32_1133 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let c1_i32_1197 : BitVec 32 := 1#32
  let arg13 : BitVec 32 := Scf.iv v1723 c1_i32_1197 k1_t241
  let v1832 : Index := Scalar.indexCast arg13
  let c16_1208 : Index := 16#32
  ![v1832.toNat, 16]
def k1_off965 (i : grid1.Coords) (v530 : BitVec 32) (v535 : BitVec 32) (k1_t241 : Fin (k1_t241_loop i v530 v535).trips) : Fin 2 → Nat :=
  let c256_i32_1134 : BitVec 32 := 256#32
  let c0_i32_1133 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let c1_i32_1197 : BitVec 32 := 1#32
  let arg13 : BitVec 32 := Scf.iv v1723 c1_i32_1197 k1_t241
  let v1836 : Index := Scalar.indexCast arg13
  let c32_1209 : Index := 32#32
  ![v1836.toNat, 32]
def k1_off966 (i : grid1.Coords) (v530 : BitVec 32) (v535 : BitVec 32) (k1_t241 : Fin (k1_t241_loop i v530 v535).trips) : Fin 2 → Nat :=
  let c256_i32_1134 : BitVec 32 := 256#32
  let c0_i32_1133 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let c1_i32_1197 : BitVec 32 := 1#32
  let arg13 : BitVec 32 := Scf.iv v1723 c1_i32_1197 k1_t241
  let v1840 : Index := Scalar.indexCast arg13
  let c48_1210 : Index := 48#32
  ![v1840.toNat, 48]
@[reducible] def k1_t242_loop (i : grid1.Coords) (v530 : BitVec 32) (v535 : BitVec 32) : Scf.Loop 32 :=
  let c256_i32_1134 : BitVec 32 := 256#32
  let c0_i32_1133 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let c256_i32_1137 : BitVec 32 := 256#32
  let c0_i32_1136 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c768_i32_1135 : BitVec 32 := 768#32
  let v1724 : BitVec 32 := Scalar.subi v538 c768_i32_1135
  let v1725 : BitVec 32 := Scalar.maxsi c0_i32_1136 v1724
  let v1726 : BitVec 32 := Scalar.minsi c256_i32_1137 v1725
  let v1805 : BitVec 32 := Scalar.subi v1726 v1723
  let c1_i32_1196 : BitVec 32 := 1#32
  let v1807 : BitVec 32 := Scalar.divsi v1805 c1_i32_1196
  let v1808 : BitVec 32 := Scalar.muli v1807 c1_i32_1196
  let v1809 : BitVec 32 := Scalar.addi v1723 v1808
  let v1806 : BitVec 32 := Scalar.addi v1723 v1805
  let c1_i32_1198 : BitVec 32 := 1#32
  ⟨v1809, v1806, c1_i32_1198⟩
def k1_off967 (i : grid1.Coords) (v530 : BitVec 32) (v535 : BitVec 32) (k1_t242 : Fin (k1_t242_loop i v530 v535).trips) : Fin 2 → Nat :=
  let c256_i32_1134 : BitVec 32 := 256#32
  let c0_i32_1133 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let c256_i32_1137 : BitVec 32 := 256#32
  let c0_i32_1136 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c768_i32_1135 : BitVec 32 := 768#32
  let v1724 : BitVec 32 := Scalar.subi v538 c768_i32_1135
  let v1725 : BitVec 32 := Scalar.maxsi c0_i32_1136 v1724
  let v1726 : BitVec 32 := Scalar.minsi c256_i32_1137 v1725
  let v1805 : BitVec 32 := Scalar.subi v1726 v1723
  let c1_i32_1196 : BitVec 32 := 1#32
  let v1807 : BitVec 32 := Scalar.divsi v1805 c1_i32_1196
  let v1808 : BitVec 32 := Scalar.muli v1807 c1_i32_1196
  let v1809 : BitVec 32 := Scalar.addi v1723 v1808
  let c1_i32_1198 : BitVec 32 := 1#32
  let arg13 : BitVec 32 := Scf.iv v1809 c1_i32_1198 k1_t242
  let v1828 : Index := Scalar.indexCast arg13
  let c0_1207 : Index := 0#32
  ![v1828.toNat, 0]
def k1_off968 (i : grid1.Coords) (v530 : BitVec 32) (v535 : BitVec 32) (k1_t242 : Fin (k1_t242_loop i v530 v535).trips) : Fin 2 → Nat :=
  let c256_i32_1134 : BitVec 32 := 256#32
  let c0_i32_1133 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let c256_i32_1137 : BitVec 32 := 256#32
  let c0_i32_1136 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c768_i32_1135 : BitVec 32 := 768#32
  let v1724 : BitVec 32 := Scalar.subi v538 c768_i32_1135
  let v1725 : BitVec 32 := Scalar.maxsi c0_i32_1136 v1724
  let v1726 : BitVec 32 := Scalar.minsi c256_i32_1137 v1725
  let v1805 : BitVec 32 := Scalar.subi v1726 v1723
  let c1_i32_1196 : BitVec 32 := 1#32
  let v1807 : BitVec 32 := Scalar.divsi v1805 c1_i32_1196
  let v1808 : BitVec 32 := Scalar.muli v1807 c1_i32_1196
  let v1809 : BitVec 32 := Scalar.addi v1723 v1808
  let c1_i32_1198 : BitVec 32 := 1#32
  let arg13 : BitVec 32 := Scf.iv v1809 c1_i32_1198 k1_t242
  let v1832 : Index := Scalar.indexCast arg13
  let c16_1208 : Index := 16#32
  ![v1832.toNat, 16]
def k1_off969 (i : grid1.Coords) (v530 : BitVec 32) (v535 : BitVec 32) (k1_t242 : Fin (k1_t242_loop i v530 v535).trips) : Fin 2 → Nat :=
  let c256_i32_1134 : BitVec 32 := 256#32
  let c0_i32_1133 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let c256_i32_1137 : BitVec 32 := 256#32
  let c0_i32_1136 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c768_i32_1135 : BitVec 32 := 768#32
  let v1724 : BitVec 32 := Scalar.subi v538 c768_i32_1135
  let v1725 : BitVec 32 := Scalar.maxsi c0_i32_1136 v1724
  let v1726 : BitVec 32 := Scalar.minsi c256_i32_1137 v1725
  let v1805 : BitVec 32 := Scalar.subi v1726 v1723
  let c1_i32_1196 : BitVec 32 := 1#32
  let v1807 : BitVec 32 := Scalar.divsi v1805 c1_i32_1196
  let v1808 : BitVec 32 := Scalar.muli v1807 c1_i32_1196
  let v1809 : BitVec 32 := Scalar.addi v1723 v1808
  let c1_i32_1198 : BitVec 32 := 1#32
  let arg13 : BitVec 32 := Scf.iv v1809 c1_i32_1198 k1_t242
  let v1836 : Index := Scalar.indexCast arg13
  let c32_1209 : Index := 32#32
  ![v1836.toNat, 32]
def k1_off970 (i : grid1.Coords) (v530 : BitVec 32) (v535 : BitVec 32) (k1_t242 : Fin (k1_t242_loop i v530 v535).trips) : Fin 2 → Nat :=
  let c256_i32_1134 : BitVec 32 := 256#32
  let c0_i32_1133 : BitVec 32 := 0#32
  let c1024_i32_232 : BitVec 32 := 1024#32
  let c0_i32_231 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v531 : BitVec 32 := Scalar.subi v530 v3
  let v532 : BitVec 32 := Scalar.maxsi c0_i32_231 v531
  let v533 : BitVec 32 := Scalar.minsi c1024_i32_232 v532
  let c768_i32_1132 : BitVec 32 := 768#32
  let v1721 : BitVec 32 := Scalar.subi v533 c768_i32_1132
  let v1722 : BitVec 32 := Scalar.maxsi c0_i32_1133 v1721
  let v1723 : BitVec 32 := Scalar.minsi c256_i32_1134 v1722
  let c256_i32_1137 : BitVec 32 := 256#32
  let c0_i32_1136 : BitVec 32 := 0#32
  let c1024_i32_234 : BitVec 32 := 1024#32
  let c0_i32_233 : BitVec 32 := 0#32
  let v536 : BitVec 32 := Scalar.subi v535 v3
  let v537 : BitVec 32 := Scalar.maxsi c0_i32_233 v536
  let v538 : BitVec 32 := Scalar.minsi c1024_i32_234 v537
  let c768_i32_1135 : BitVec 32 := 768#32
  let v1724 : BitVec 32 := Scalar.subi v538 c768_i32_1135
  let v1725 : BitVec 32 := Scalar.maxsi c0_i32_1136 v1724
  let v1726 : BitVec 32 := Scalar.minsi c256_i32_1137 v1725
  let v1805 : BitVec 32 := Scalar.subi v1726 v1723
  let c1_i32_1196 : BitVec 32 := 1#32
  let v1807 : BitVec 32 := Scalar.divsi v1805 c1_i32_1196
  let v1808 : BitVec 32 := Scalar.muli v1807 c1_i32_1196
  let v1809 : BitVec 32 := Scalar.addi v1723 v1808
  let c1_i32_1198 : BitVec 32 := 1#32
  let arg13 : BitVec 32 := Scf.iv v1809 c1_i32_1198 k1_t242
  let v1840 : Index := Scalar.indexCast arg13
  let c48_1210 : Index := 48#32
  ![v1840.toNat, 48]

def k1_chk25_0 (i : grid1.Coords) (v530 : BitVec 32) (v535 : BitVec 32) : Prop :=
  (∀ (k1_h25 : k1_cond25 i v530 v535 = 1#1), (k1_t49_loop i v530 v535).OK) ∧
  (∀ k1_t49 : Fin (k1_t49_loop i v530 v535).trips, ∀ (k1_h25 : k1_cond25 i v530 v535 = 1#1), ∀ a, (k1_off194 i v530 v535 k1_t49) a + S1x16.size a ≤ S256x128.size a) ∧
  (∀ k1_t49 : Fin (k1_t49_loop i v530 v535).trips, ∀ (k1_h25 : k1_cond25 i v530 v535 = 1#1), ∀ a, (k1_off195 i v530 v535 k1_t49) a + S1x16.size a ≤ S256x128.size a) ∧
  (∀ k1_t49 : Fin (k1_t49_loop i v530 v535).trips, ∀ (k1_h25 : k1_cond25 i v530 v535 = 1#1), ∀ a, (k1_off196 i v530 v535 k1_t49) a + S1x16.size a ≤ S256x128.size a) ∧
  (∀ k1_t49 : Fin (k1_t49_loop i v530 v535).trips, ∀ (k1_h25 : k1_cond25 i v530 v535 = 1#1), ∀ a, (k1_off197 i v530 v535 k1_t49) a + S1x16.size a ≤ S256x128.size a) ∧
  (∀ (k1_h25 : k1_cond25 i v530 v535 = 1#1), (k1_t50_loop i v530 v535).OK) ∧
  (∀ k1_t50 : Fin (k1_t50_loop i v530 v535).trips, ∀ (k1_h25 : k1_cond25 i v530 v535 = 1#1), ∀ a, (k1_off198 i v530 v535 k1_t50) a + S1x16.size a ≤ S256x128.size a) ∧
  (∀ k1_t50 : Fin (k1_t50_loop i v530 v535).trips, ∀ (k1_h25 : k1_cond25 i v530 v535 = 1#1), ∀ a, (k1_off199 i v530 v535 k1_t50) a + S1x16.size a ≤ S256x128.size a) ∧
  (∀ k1_t50 : Fin (k1_t50_loop i v530 v535).trips, ∀ (k1_h25 : k1_cond25 i v530 v535 = 1#1), ∀ a, (k1_off200 i v530 v535 k1_t50) a + S1x16.size a ≤ S256x128.size a) ∧
  (∀ k1_t50 : Fin (k1_t50_loop i v530 v535).trips, ∀ (k1_h25 : k1_cond25 i v530 v535 = 1#1), ∀ a, (k1_off201 i v530 v535 k1_t50) a + S1x16.size a ≤ S256x128.size a) ∧
  (∀ (k1_h57 : k1_cond57 i v530 v535 = 1#1), (k1_t113_loop i v530 v535).OK) ∧
  (∀ k1_t113 : Fin (k1_t113_loop i v530 v535).trips, ∀ (k1_h57 : k1_cond57 i v530 v535 = 1#1), ∀ a, (k1_off451 i v530 v535 k1_t113) a + S1x16.size a ≤ S256x128.size a) ∧
  (∀ k1_t113 : Fin (k1_t113_loop i v530 v535).trips, ∀ (k1_h57 : k1_cond57 i v530 v535 = 1#1), ∀ a, (k1_off452 i v530 v535 k1_t113) a + S1x16.size a ≤ S256x128.size a) ∧
  (∀ k1_t113 : Fin (k1_t113_loop i v530 v535).trips, ∀ (k1_h57 : k1_cond57 i v530 v535 = 1#1), ∀ a, (k1_off453 i v530 v535 k1_t113) a + S1x16.size a ≤ S256x128.size a) ∧
  (∀ k1_t113 : Fin (k1_t113_loop i v530 v535).trips, ∀ (k1_h57 : k1_cond57 i v530 v535 = 1#1), ∀ a, (k1_off454 i v530 v535 k1_t113) a + S1x16.size a ≤ S256x128.size a) ∧
  (∀ (k1_h57 : k1_cond57 i v530 v535 = 1#1), (k1_t114_loop i v530 v535).OK) ∧
  (∀ k1_t114 : Fin (k1_t114_loop i v530 v535).trips, ∀ (k1_h57 : k1_cond57 i v530 v535 = 1#1), ∀ a, (k1_off455 i v530 v535 k1_t114) a + S1x16.size a ≤ S256x128.size a) ∧
  (∀ k1_t114 : Fin (k1_t114_loop i v530 v535).trips, ∀ (k1_h57 : k1_cond57 i v530 v535 = 1#1), ∀ a, (k1_off456 i v530 v535 k1_t114) a + S1x16.size a ≤ S256x128.size a) ∧
  (∀ k1_t114 : Fin (k1_t114_loop i v530 v535).trips, ∀ (k1_h57 : k1_cond57 i v530 v535 = 1#1), ∀ a, (k1_off457 i v530 v535 k1_t114) a + S1x16.size a ≤ S256x128.size a) ∧
  (∀ k1_t114 : Fin (k1_t114_loop i v530 v535).trips, ∀ (k1_h57 : k1_cond57 i v530 v535 = 1#1), ∀ a, (k1_off458 i v530 v535 k1_t114) a + S1x16.size a ≤ S256x128.size a) ∧
  (∀ (k1_h89 : k1_cond89 i v530 v535 = 1#1), (k1_t177_loop i v530 v535).OK) ∧
  (∀ k1_t177 : Fin (k1_t177_loop i v530 v535).trips, ∀ (k1_h89 : k1_cond89 i v530 v535 = 1#1), ∀ a, (k1_off707 i v530 v535 k1_t177) a + S1x16.size a ≤ S256x128.size a) ∧
  (∀ k1_t177 : Fin (k1_t177_loop i v530 v535).trips, ∀ (k1_h89 : k1_cond89 i v530 v535 = 1#1), ∀ a, (k1_off708 i v530 v535 k1_t177) a + S1x16.size a ≤ S256x128.size a) ∧
  (∀ k1_t177 : Fin (k1_t177_loop i v530 v535).trips, ∀ (k1_h89 : k1_cond89 i v530 v535 = 1#1), ∀ a, (k1_off709 i v530 v535 k1_t177) a + S1x16.size a ≤ S256x128.size a) ∧
  (∀ k1_t177 : Fin (k1_t177_loop i v530 v535).trips, ∀ (k1_h89 : k1_cond89 i v530 v535 = 1#1), ∀ a, (k1_off710 i v530 v535 k1_t177) a + S1x16.size a ≤ S256x128.size a) ∧
  (∀ (k1_h89 : k1_cond89 i v530 v535 = 1#1), (k1_t178_loop i v530 v535).OK) ∧
  (∀ k1_t178 : Fin (k1_t178_loop i v530 v535).trips, ∀ (k1_h89 : k1_cond89 i v530 v535 = 1#1), ∀ a, (k1_off711 i v530 v535 k1_t178) a + S1x16.size a ≤ S256x128.size a) ∧
  (∀ k1_t178 : Fin (k1_t178_loop i v530 v535).trips, ∀ (k1_h89 : k1_cond89 i v530 v535 = 1#1), ∀ a, (k1_off712 i v530 v535 k1_t178) a + S1x16.size a ≤ S256x128.size a) ∧
  (∀ k1_t178 : Fin (k1_t178_loop i v530 v535).trips, ∀ (k1_h89 : k1_cond89 i v530 v535 = 1#1), ∀ a, (k1_off713 i v530 v535 k1_t178) a + S1x16.size a ≤ S256x128.size a) ∧
  (∀ k1_t178 : Fin (k1_t178_loop i v530 v535).trips, ∀ (k1_h89 : k1_cond89 i v530 v535 = 1#1), ∀ a, (k1_off714 i v530 v535 k1_t178) a + S1x16.size a ≤ S256x128.size a) ∧
  (∀ (k1_h121 : k1_cond121 i v530 v535 = 1#1), (k1_t241_loop i v530 v535).OK) ∧
  (∀ k1_t241 : Fin (k1_t241_loop i v530 v535).trips, ∀ (k1_h121 : k1_cond121 i v530 v535 = 1#1), ∀ a, (k1_off963 i v530 v535 k1_t241) a + S1x16.size a ≤ S256x128.size a)
def k1_chk25_1 (i : grid1.Coords) (v530 : BitVec 32) (v535 : BitVec 32) : Prop :=
  (∀ k1_t241 : Fin (k1_t241_loop i v530 v535).trips, ∀ (k1_h121 : k1_cond121 i v530 v535 = 1#1), ∀ a, (k1_off964 i v530 v535 k1_t241) a + S1x16.size a ≤ S256x128.size a) ∧
  (∀ k1_t241 : Fin (k1_t241_loop i v530 v535).trips, ∀ (k1_h121 : k1_cond121 i v530 v535 = 1#1), ∀ a, (k1_off965 i v530 v535 k1_t241) a + S1x16.size a ≤ S256x128.size a) ∧
  (∀ k1_t241 : Fin (k1_t241_loop i v530 v535).trips, ∀ (k1_h121 : k1_cond121 i v530 v535 = 1#1), ∀ a, (k1_off966 i v530 v535 k1_t241) a + S1x16.size a ≤ S256x128.size a) ∧
  (∀ (k1_h121 : k1_cond121 i v530 v535 = 1#1), (k1_t242_loop i v530 v535).OK) ∧
  (∀ k1_t242 : Fin (k1_t242_loop i v530 v535).trips, ∀ (k1_h121 : k1_cond121 i v530 v535 = 1#1), ∀ a, (k1_off967 i v530 v535 k1_t242) a + S1x16.size a ≤ S256x128.size a) ∧
  (∀ k1_t242 : Fin (k1_t242_loop i v530 v535).trips, ∀ (k1_h121 : k1_cond121 i v530 v535 = 1#1), ∀ a, (k1_off968 i v530 v535 k1_t242) a + S1x16.size a ≤ S256x128.size a) ∧
  (∀ k1_t242 : Fin (k1_t242_loop i v530 v535).trips, ∀ (k1_h121 : k1_cond121 i v530 v535 = 1#1), ∀ a, (k1_off969 i v530 v535 k1_t242) a + S1x16.size a ≤ S256x128.size a) ∧
  (∀ k1_t242 : Fin (k1_t242_loop i v530 v535).trips, ∀ (k1_h121 : k1_cond121 i v530 v535 = 1#1), ∀ a, (k1_off970 i v530 v535 k1_t242) a + S1x16.size a ≤ S256x128.size a)
def k1_chk25 (i : grid1.Coords) (v530 : BitVec 32) (v535 : BitVec 32) : Prop :=
  k1_chk25_0 i v530 v535 ∧
  k1_chk25_1 i v530 v535
theorem k1_t49_ok : ∀ (i : grid1.Coords) (v530 : BitVec 32) (v535 : BitVec 32) (k1_hw25 : k1_chk25 i v530 v535), ∀ (k1_h25 : k1_cond25 i v530 v535 = 1#1), (k1_t49_loop i v530 v535).OK := fun i v530 v535 k1_hw25 k1_h25 => k1_hw25.1.1 k1_h25
theorem k1_off194_inb : ∀ (i : grid1.Coords) (v530 : BitVec 32) (v535 : BitVec 32) (k1_hw25 : k1_chk25 i v530 v535) (k1_t49 : Fin (k1_t49_loop i v530 v535).trips), ∀ (k1_h25 : k1_cond25 i v530 v535 = 1#1), ∀ a, (k1_off194 i v530 v535 k1_t49) a + S1x16.size a ≤ S256x128.size a := fun i v530 v535 k1_hw25 k1_t49 k1_h25 => k1_hw25.1.2.1 k1_t49 k1_h25
theorem k1_off195_inb : ∀ (i : grid1.Coords) (v530 : BitVec 32) (v535 : BitVec 32) (k1_hw25 : k1_chk25 i v530 v535) (k1_t49 : Fin (k1_t49_loop i v530 v535).trips), ∀ (k1_h25 : k1_cond25 i v530 v535 = 1#1), ∀ a, (k1_off195 i v530 v535 k1_t49) a + S1x16.size a ≤ S256x128.size a := fun i v530 v535 k1_hw25 k1_t49 k1_h25 => k1_hw25.1.2.2.1 k1_t49 k1_h25
theorem k1_off196_inb : ∀ (i : grid1.Coords) (v530 : BitVec 32) (v535 : BitVec 32) (k1_hw25 : k1_chk25 i v530 v535) (k1_t49 : Fin (k1_t49_loop i v530 v535).trips), ∀ (k1_h25 : k1_cond25 i v530 v535 = 1#1), ∀ a, (k1_off196 i v530 v535 k1_t49) a + S1x16.size a ≤ S256x128.size a := fun i v530 v535 k1_hw25 k1_t49 k1_h25 => k1_hw25.1.2.2.2.1 k1_t49 k1_h25
theorem k1_off197_inb : ∀ (i : grid1.Coords) (v530 : BitVec 32) (v535 : BitVec 32) (k1_hw25 : k1_chk25 i v530 v535) (k1_t49 : Fin (k1_t49_loop i v530 v535).trips), ∀ (k1_h25 : k1_cond25 i v530 v535 = 1#1), ∀ a, (k1_off197 i v530 v535 k1_t49) a + S1x16.size a ≤ S256x128.size a := fun i v530 v535 k1_hw25 k1_t49 k1_h25 => k1_hw25.1.2.2.2.2.1 k1_t49 k1_h25
theorem k1_t50_ok : ∀ (i : grid1.Coords) (v530 : BitVec 32) (v535 : BitVec 32) (k1_hw25 : k1_chk25 i v530 v535), ∀ (k1_h25 : k1_cond25 i v530 v535 = 1#1), (k1_t50_loop i v530 v535).OK := fun i v530 v535 k1_hw25 k1_h25 => k1_hw25.1.2.2.2.2.2.1 k1_h25
theorem k1_off198_inb : ∀ (i : grid1.Coords) (v530 : BitVec 32) (v535 : BitVec 32) (k1_hw25 : k1_chk25 i v530 v535) (k1_t50 : Fin (k1_t50_loop i v530 v535).trips), ∀ (k1_h25 : k1_cond25 i v530 v535 = 1#1), ∀ a, (k1_off198 i v530 v535 k1_t50) a + S1x16.size a ≤ S256x128.size a := fun i v530 v535 k1_hw25 k1_t50 k1_h25 => k1_hw25.1.2.2.2.2.2.2.1 k1_t50 k1_h25
theorem k1_off199_inb : ∀ (i : grid1.Coords) (v530 : BitVec 32) (v535 : BitVec 32) (k1_hw25 : k1_chk25 i v530 v535) (k1_t50 : Fin (k1_t50_loop i v530 v535).trips), ∀ (k1_h25 : k1_cond25 i v530 v535 = 1#1), ∀ a, (k1_off199 i v530 v535 k1_t50) a + S1x16.size a ≤ S256x128.size a := fun i v530 v535 k1_hw25 k1_t50 k1_h25 => k1_hw25.1.2.2.2.2.2.2.2.1 k1_t50 k1_h25
theorem k1_off200_inb : ∀ (i : grid1.Coords) (v530 : BitVec 32) (v535 : BitVec 32) (k1_hw25 : k1_chk25 i v530 v535) (k1_t50 : Fin (k1_t50_loop i v530 v535).trips), ∀ (k1_h25 : k1_cond25 i v530 v535 = 1#1), ∀ a, (k1_off200 i v530 v535 k1_t50) a + S1x16.size a ≤ S256x128.size a := fun i v530 v535 k1_hw25 k1_t50 k1_h25 => k1_hw25.1.2.2.2.2.2.2.2.2.1 k1_t50 k1_h25
theorem k1_off201_inb : ∀ (i : grid1.Coords) (v530 : BitVec 32) (v535 : BitVec 32) (k1_hw25 : k1_chk25 i v530 v535) (k1_t50 : Fin (k1_t50_loop i v530 v535).trips), ∀ (k1_h25 : k1_cond25 i v530 v535 = 1#1), ∀ a, (k1_off201 i v530 v535 k1_t50) a + S1x16.size a ≤ S256x128.size a := fun i v530 v535 k1_hw25 k1_t50 k1_h25 => k1_hw25.1.2.2.2.2.2.2.2.2.2.1 k1_t50 k1_h25
theorem k1_t113_ok : ∀ (i : grid1.Coords) (v530 : BitVec 32) (v535 : BitVec 32) (k1_hw25 : k1_chk25 i v530 v535), ∀ (k1_h57 : k1_cond57 i v530 v535 = 1#1), (k1_t113_loop i v530 v535).OK := fun i v530 v535 k1_hw25 k1_h57 => k1_hw25.1.2.2.2.2.2.2.2.2.2.2.1 k1_h57
theorem k1_off451_inb : ∀ (i : grid1.Coords) (v530 : BitVec 32) (v535 : BitVec 32) (k1_hw25 : k1_chk25 i v530 v535) (k1_t113 : Fin (k1_t113_loop i v530 v535).trips), ∀ (k1_h57 : k1_cond57 i v530 v535 = 1#1), ∀ a, (k1_off451 i v530 v535 k1_t113) a + S1x16.size a ≤ S256x128.size a := fun i v530 v535 k1_hw25 k1_t113 k1_h57 => k1_hw25.1.2.2.2.2.2.2.2.2.2.2.2.1 k1_t113 k1_h57
theorem k1_off452_inb : ∀ (i : grid1.Coords) (v530 : BitVec 32) (v535 : BitVec 32) (k1_hw25 : k1_chk25 i v530 v535) (k1_t113 : Fin (k1_t113_loop i v530 v535).trips), ∀ (k1_h57 : k1_cond57 i v530 v535 = 1#1), ∀ a, (k1_off452 i v530 v535 k1_t113) a + S1x16.size a ≤ S256x128.size a := fun i v530 v535 k1_hw25 k1_t113 k1_h57 => k1_hw25.1.2.2.2.2.2.2.2.2.2.2.2.2.1 k1_t113 k1_h57
theorem k1_off453_inb : ∀ (i : grid1.Coords) (v530 : BitVec 32) (v535 : BitVec 32) (k1_hw25 : k1_chk25 i v530 v535) (k1_t113 : Fin (k1_t113_loop i v530 v535).trips), ∀ (k1_h57 : k1_cond57 i v530 v535 = 1#1), ∀ a, (k1_off453 i v530 v535 k1_t113) a + S1x16.size a ≤ S256x128.size a := fun i v530 v535 k1_hw25 k1_t113 k1_h57 => k1_hw25.1.2.2.2.2.2.2.2.2.2.2.2.2.2.1 k1_t113 k1_h57
theorem k1_off454_inb : ∀ (i : grid1.Coords) (v530 : BitVec 32) (v535 : BitVec 32) (k1_hw25 : k1_chk25 i v530 v535) (k1_t113 : Fin (k1_t113_loop i v530 v535).trips), ∀ (k1_h57 : k1_cond57 i v530 v535 = 1#1), ∀ a, (k1_off454 i v530 v535 k1_t113) a + S1x16.size a ≤ S256x128.size a := fun i v530 v535 k1_hw25 k1_t113 k1_h57 => k1_hw25.1.2.2.2.2.2.2.2.2.2.2.2.2.2.2.1 k1_t113 k1_h57
theorem k1_t114_ok : ∀ (i : grid1.Coords) (v530 : BitVec 32) (v535 : BitVec 32) (k1_hw25 : k1_chk25 i v530 v535), ∀ (k1_h57 : k1_cond57 i v530 v535 = 1#1), (k1_t114_loop i v530 v535).OK := fun i v530 v535 k1_hw25 k1_h57 => k1_hw25.1.2.2.2.2.2.2.2.2.2.2.2.2.2.2.2.1 k1_h57
theorem k1_off455_inb : ∀ (i : grid1.Coords) (v530 : BitVec 32) (v535 : BitVec 32) (k1_hw25 : k1_chk25 i v530 v535) (k1_t114 : Fin (k1_t114_loop i v530 v535).trips), ∀ (k1_h57 : k1_cond57 i v530 v535 = 1#1), ∀ a, (k1_off455 i v530 v535 k1_t114) a + S1x16.size a ≤ S256x128.size a := fun i v530 v535 k1_hw25 k1_t114 k1_h57 => k1_hw25.1.2.2.2.2.2.2.2.2.2.2.2.2.2.2.2.2.1 k1_t114 k1_h57
theorem k1_off456_inb : ∀ (i : grid1.Coords) (v530 : BitVec 32) (v535 : BitVec 32) (k1_hw25 : k1_chk25 i v530 v535) (k1_t114 : Fin (k1_t114_loop i v530 v535).trips), ∀ (k1_h57 : k1_cond57 i v530 v535 = 1#1), ∀ a, (k1_off456 i v530 v535 k1_t114) a + S1x16.size a ≤ S256x128.size a := fun i v530 v535 k1_hw25 k1_t114 k1_h57 => k1_hw25.1.2.2.2.2.2.2.2.2.2.2.2.2.2.2.2.2.2.1 k1_t114 k1_h57
theorem k1_off457_inb : ∀ (i : grid1.Coords) (v530 : BitVec 32) (v535 : BitVec 32) (k1_hw25 : k1_chk25 i v530 v535) (k1_t114 : Fin (k1_t114_loop i v530 v535).trips), ∀ (k1_h57 : k1_cond57 i v530 v535 = 1#1), ∀ a, (k1_off457 i v530 v535 k1_t114) a + S1x16.size a ≤ S256x128.size a := fun i v530 v535 k1_hw25 k1_t114 k1_h57 => k1_hw25.1.2.2.2.2.2.2.2.2.2.2.2.2.2.2.2.2.2.2.1 k1_t114 k1_h57
theorem k1_off458_inb : ∀ (i : grid1.Coords) (v530 : BitVec 32) (v535 : BitVec 32) (k1_hw25 : k1_chk25 i v530 v535) (k1_t114 : Fin (k1_t114_loop i v530 v535).trips), ∀ (k1_h57 : k1_cond57 i v530 v535 = 1#1), ∀ a, (k1_off458 i v530 v535 k1_t114) a + S1x16.size a ≤ S256x128.size a := fun i v530 v535 k1_hw25 k1_t114 k1_h57 => k1_hw25.1.2.2.2.2.2.2.2.2.2.2.2.2.2.2.2.2.2.2.2.1 k1_t114 k1_h57
theorem k1_t177_ok : ∀ (i : grid1.Coords) (v530 : BitVec 32) (v535 : BitVec 32) (k1_hw25 : k1_chk25 i v530 v535), ∀ (k1_h89 : k1_cond89 i v530 v535 = 1#1), (k1_t177_loop i v530 v535).OK := fun i v530 v535 k1_hw25 k1_h89 => k1_hw25.1.2.2.2.2.2.2.2.2.2.2.2.2.2.2.2.2.2.2.2.2.1 k1_h89
theorem k1_off707_inb : ∀ (i : grid1.Coords) (v530 : BitVec 32) (v535 : BitVec 32) (k1_hw25 : k1_chk25 i v530 v535) (k1_t177 : Fin (k1_t177_loop i v530 v535).trips), ∀ (k1_h89 : k1_cond89 i v530 v535 = 1#1), ∀ a, (k1_off707 i v530 v535 k1_t177) a + S1x16.size a ≤ S256x128.size a := fun i v530 v535 k1_hw25 k1_t177 k1_h89 => k1_hw25.1.2.2.2.2.2.2.2.2.2.2.2.2.2.2.2.2.2.2.2.2.2.1 k1_t177 k1_h89
theorem k1_off708_inb : ∀ (i : grid1.Coords) (v530 : BitVec 32) (v535 : BitVec 32) (k1_hw25 : k1_chk25 i v530 v535) (k1_t177 : Fin (k1_t177_loop i v530 v535).trips), ∀ (k1_h89 : k1_cond89 i v530 v535 = 1#1), ∀ a, (k1_off708 i v530 v535 k1_t177) a + S1x16.size a ≤ S256x128.size a := fun i v530 v535 k1_hw25 k1_t177 k1_h89 => k1_hw25.1.2.2.2.2.2.2.2.2.2.2.2.2.2.2.2.2.2.2.2.2.2.2.1 k1_t177 k1_h89
theorem k1_off709_inb : ∀ (i : grid1.Coords) (v530 : BitVec 32) (v535 : BitVec 32) (k1_hw25 : k1_chk25 i v530 v535) (k1_t177 : Fin (k1_t177_loop i v530 v535).trips), ∀ (k1_h89 : k1_cond89 i v530 v535 = 1#1), ∀ a, (k1_off709 i v530 v535 k1_t177) a + S1x16.size a ≤ S256x128.size a := fun i v530 v535 k1_hw25 k1_t177 k1_h89 => k1_hw25.1.2.2.2.2.2.2.2.2.2.2.2.2.2.2.2.2.2.2.2.2.2.2.2.1 k1_t177 k1_h89
theorem k1_off710_inb : ∀ (i : grid1.Coords) (v530 : BitVec 32) (v535 : BitVec 32) (k1_hw25 : k1_chk25 i v530 v535) (k1_t177 : Fin (k1_t177_loop i v530 v535).trips), ∀ (k1_h89 : k1_cond89 i v530 v535 = 1#1), ∀ a, (k1_off710 i v530 v535 k1_t177) a + S1x16.size a ≤ S256x128.size a := fun i v530 v535 k1_hw25 k1_t177 k1_h89 => k1_hw25.1.2.2.2.2.2.2.2.2.2.2.2.2.2.2.2.2.2.2.2.2.2.2.2.2.1 k1_t177 k1_h89
theorem k1_t178_ok : ∀ (i : grid1.Coords) (v530 : BitVec 32) (v535 : BitVec 32) (k1_hw25 : k1_chk25 i v530 v535), ∀ (k1_h89 : k1_cond89 i v530 v535 = 1#1), (k1_t178_loop i v530 v535).OK := fun i v530 v535 k1_hw25 k1_h89 => k1_hw25.1.2.2.2.2.2.2.2.2.2.2.2.2.2.2.2.2.2.2.2.2.2.2.2.2.2.1 k1_h89
theorem k1_off711_inb : ∀ (i : grid1.Coords) (v530 : BitVec 32) (v535 : BitVec 32) (k1_hw25 : k1_chk25 i v530 v535) (k1_t178 : Fin (k1_t178_loop i v530 v535).trips), ∀ (k1_h89 : k1_cond89 i v530 v535 = 1#1), ∀ a, (k1_off711 i v530 v535 k1_t178) a + S1x16.size a ≤ S256x128.size a := fun i v530 v535 k1_hw25 k1_t178 k1_h89 => k1_hw25.1.2.2.2.2.2.2.2.2.2.2.2.2.2.2.2.2.2.2.2.2.2.2.2.2.2.2.1 k1_t178 k1_h89
theorem k1_off712_inb : ∀ (i : grid1.Coords) (v530 : BitVec 32) (v535 : BitVec 32) (k1_hw25 : k1_chk25 i v530 v535) (k1_t178 : Fin (k1_t178_loop i v530 v535).trips), ∀ (k1_h89 : k1_cond89 i v530 v535 = 1#1), ∀ a, (k1_off712 i v530 v535 k1_t178) a + S1x16.size a ≤ S256x128.size a := fun i v530 v535 k1_hw25 k1_t178 k1_h89 => k1_hw25.1.2.2.2.2.2.2.2.2.2.2.2.2.2.2.2.2.2.2.2.2.2.2.2.2.2.2.2.1 k1_t178 k1_h89
theorem k1_off713_inb : ∀ (i : grid1.Coords) (v530 : BitVec 32) (v535 : BitVec 32) (k1_hw25 : k1_chk25 i v530 v535) (k1_t178 : Fin (k1_t178_loop i v530 v535).trips), ∀ (k1_h89 : k1_cond89 i v530 v535 = 1#1), ∀ a, (k1_off713 i v530 v535 k1_t178) a + S1x16.size a ≤ S256x128.size a := fun i v530 v535 k1_hw25 k1_t178 k1_h89 => k1_hw25.1.2.2.2.2.2.2.2.2.2.2.2.2.2.2.2.2.2.2.2.2.2.2.2.2.2.2.2.2.1 k1_t178 k1_h89
theorem k1_off714_inb : ∀ (i : grid1.Coords) (v530 : BitVec 32) (v535 : BitVec 32) (k1_hw25 : k1_chk25 i v530 v535) (k1_t178 : Fin (k1_t178_loop i v530 v535).trips), ∀ (k1_h89 : k1_cond89 i v530 v535 = 1#1), ∀ a, (k1_off714 i v530 v535 k1_t178) a + S1x16.size a ≤ S256x128.size a := fun i v530 v535 k1_hw25 k1_t178 k1_h89 => k1_hw25.1.2.2.2.2.2.2.2.2.2.2.2.2.2.2.2.2.2.2.2.2.2.2.2.2.2.2.2.2.2.1 k1_t178 k1_h89
theorem k1_t241_ok : ∀ (i : grid1.Coords) (v530 : BitVec 32) (v535 : BitVec 32) (k1_hw25 : k1_chk25 i v530 v535), ∀ (k1_h121 : k1_cond121 i v530 v535 = 1#1), (k1_t241_loop i v530 v535).OK := fun i v530 v535 k1_hw25 k1_h121 => k1_hw25.1.2.2.2.2.2.2.2.2.2.2.2.2.2.2.2.2.2.2.2.2.2.2.2.2.2.2.2.2.2.2.1 k1_h121
theorem k1_off963_inb : ∀ (i : grid1.Coords) (v530 : BitVec 32) (v535 : BitVec 32) (k1_hw25 : k1_chk25 i v530 v535) (k1_t241 : Fin (k1_t241_loop i v530 v535).trips), ∀ (k1_h121 : k1_cond121 i v530 v535 = 1#1), ∀ a, (k1_off963 i v530 v535 k1_t241) a + S1x16.size a ≤ S256x128.size a := fun i v530 v535 k1_hw25 k1_t241 k1_h121 => k1_hw25.1.2.2.2.2.2.2.2.2.2.2.2.2.2.2.2.2.2.2.2.2.2.2.2.2.2.2.2.2.2.2.2 k1_t241 k1_h121
theorem k1_off964_inb : ∀ (i : grid1.Coords) (v530 : BitVec 32) (v535 : BitVec 32) (k1_hw25 : k1_chk25 i v530 v535) (k1_t241 : Fin (k1_t241_loop i v530 v535).trips), ∀ (k1_h121 : k1_cond121 i v530 v535 = 1#1), ∀ a, (k1_off964 i v530 v535 k1_t241) a + S1x16.size a ≤ S256x128.size a := fun i v530 v535 k1_hw25 k1_t241 k1_h121 => k1_hw25.2.1 k1_t241 k1_h121
theorem k1_off965_inb : ∀ (i : grid1.Coords) (v530 : BitVec 32) (v535 : BitVec 32) (k1_hw25 : k1_chk25 i v530 v535) (k1_t241 : Fin (k1_t241_loop i v530 v535).trips), ∀ (k1_h121 : k1_cond121 i v530 v535 = 1#1), ∀ a, (k1_off965 i v530 v535 k1_t241) a + S1x16.size a ≤ S256x128.size a := fun i v530 v535 k1_hw25 k1_t241 k1_h121 => k1_hw25.2.2.1 k1_t241 k1_h121
theorem k1_off966_inb : ∀ (i : grid1.Coords) (v530 : BitVec 32) (v535 : BitVec 32) (k1_hw25 : k1_chk25 i v530 v535) (k1_t241 : Fin (k1_t241_loop i v530 v535).trips), ∀ (k1_h121 : k1_cond121 i v530 v535 = 1#1), ∀ a, (k1_off966 i v530 v535 k1_t241) a + S1x16.size a ≤ S256x128.size a := fun i v530 v535 k1_hw25 k1_t241 k1_h121 => k1_hw25.2.2.2.1 k1_t241 k1_h121
theorem k1_t242_ok : ∀ (i : grid1.Coords) (v530 : BitVec 32) (v535 : BitVec 32) (k1_hw25 : k1_chk25 i v530 v535), ∀ (k1_h121 : k1_cond121 i v530 v535 = 1#1), (k1_t242_loop i v530 v535).OK := fun i v530 v535 k1_hw25 k1_h121 => k1_hw25.2.2.2.2.1 k1_h121
theorem k1_off967_inb : ∀ (i : grid1.Coords) (v530 : BitVec 32) (v535 : BitVec 32) (k1_hw25 : k1_chk25 i v530 v535) (k1_t242 : Fin (k1_t242_loop i v530 v535).trips), ∀ (k1_h121 : k1_cond121 i v530 v535 = 1#1), ∀ a, (k1_off967 i v530 v535 k1_t242) a + S1x16.size a ≤ S256x128.size a := fun i v530 v535 k1_hw25 k1_t242 k1_h121 => k1_hw25.2.2.2.2.2.1 k1_t242 k1_h121
theorem k1_off968_inb : ∀ (i : grid1.Coords) (v530 : BitVec 32) (v535 : BitVec 32) (k1_hw25 : k1_chk25 i v530 v535) (k1_t242 : Fin (k1_t242_loop i v530 v535).trips), ∀ (k1_h121 : k1_cond121 i v530 v535 = 1#1), ∀ a, (k1_off968 i v530 v535 k1_t242) a + S1x16.size a ≤ S256x128.size a := fun i v530 v535 k1_hw25 k1_t242 k1_h121 => k1_hw25.2.2.2.2.2.2.1 k1_t242 k1_h121
theorem k1_off969_inb : ∀ (i : grid1.Coords) (v530 : BitVec 32) (v535 : BitVec 32) (k1_hw25 : k1_chk25 i v530 v535) (k1_t242 : Fin (k1_t242_loop i v530 v535).trips), ∀ (k1_h121 : k1_cond121 i v530 v535 = 1#1), ∀ a, (k1_off969 i v530 v535 k1_t242) a + S1x16.size a ≤ S256x128.size a := fun i v530 v535 k1_hw25 k1_t242 k1_h121 => k1_hw25.2.2.2.2.2.2.2.1 k1_t242 k1_h121
theorem k1_off970_inb : ∀ (i : grid1.Coords) (v530 : BitVec 32) (v535 : BitVec 32) (k1_hw25 : k1_chk25 i v530 v535) (k1_t242 : Fin (k1_t242_loop i v530 v535).trips), ∀ (k1_h121 : k1_cond121 i v530 v535 = 1#1), ∀ a, (k1_off970 i v530 v535 k1_t242) a + S1x16.size a ≤ S256x128.size a := fun i v530 v535 k1_hw25 k1_t242 k1_h121 => k1_hw25.2.2.2.2.2.2.2.2 k1_t242 k1_h121

@[reducible] def k1_t243_loop (i : grid1.Coords) (v540 : BitVec 32) (v546 : BitVec 32) : Scf.Loop 32 :=
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let c256_i32_1144 : BitVec 32 := 256#32
  let c0_i32_1143 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c768_i32_1142 : BitVec 32 := 768#32
  let v1733 : BitVec 32 := Scalar.subi v550 c768_i32_1142
  let v1734 : BitVec 32 := Scalar.maxsi c0_i32_1143 v1733
  let v1735 : BitVec 32 := Scalar.minsi c256_i32_1144 v1734
  let v1805 : BitVec 32 := Scalar.subi v1735 v1732
  let c1_i32_1196 : BitVec 32 := 1#32
  let v1807 : BitVec 32 := Scalar.divsi v1805 c1_i32_1196
  let v1808 : BitVec 32 := Scalar.muli v1807 c1_i32_1196
  let v1809 : BitVec 32 := Scalar.addi v1732 v1808
  let c1_i32_1197 : BitVec 32 := 1#32
  ⟨v1732, v1809, c1_i32_1197⟩
def k1_cond122 (i : grid1.Coords) (v540 : BitVec 32) (v546 : BitVec 32) : BitVec 1 :=
  let c256_i32_1144 : BitVec 32 := 256#32
  let c0_i32_1143 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v548 : BitVec 32 := Scalar.subi v547 v3
  let v549 : BitVec 32 := Scalar.maxsi c0_i32_239 v548
  let v550 : BitVec 32 := Scalar.minsi c1024_i32_240 v549
  let c768_i32_1142 : BitVec 32 := 768#32
  let v1733 : BitVec 32 := Scalar.subi v550 c768_i32_1142
  let v1734 : BitVec 32 := Scalar.maxsi c0_i32_1143 v1733
  let v1735 : BitVec 32 := Scalar.minsi c256_i32_1144 v1734
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let v1736 : BitVec 1 := Scalar.cmpi .sgt v1735 v1732
  let v1737 : BitVec 32 := Scalar.extui v1736
  let c0_i32_1145 : BitVec 32 := 0#32
  let v1738 : BitVec 1 := Scalar.cmpi .ne v1737 c0_i32_1145
  v1738

def k1_off971 (i : grid1.Coords) (v540 : BitVec 32) (v546 : BitVec 32) (k1_t243 : Fin (k1_t243_loop i v540 v546).trips) : Fin 2 → Nat :=
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let c1_i32_1197 : BitVec 32 := 1#32
  let arg13 : BitVec 32 := Scf.iv v1732 c1_i32_1197 k1_t243
  let v1828 : Index := Scalar.indexCast arg13
  let c64 : Index := 64#32
  ![v1828.toNat, 64]
def k1_off972 (i : grid1.Coords) (v540 : BitVec 32) (v546 : BitVec 32) (k1_t243 : Fin (k1_t243_loop i v540 v546).trips) : Fin 2 → Nat :=
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let c1_i32_1197 : BitVec 32 := 1#32
  let arg13 : BitVec 32 := Scf.iv v1732 c1_i32_1197 k1_t243
  let v1832 : Index := Scalar.indexCast arg13
  let c80 : Index := 80#32
  ![v1832.toNat, 80]
def k1_off973 (i : grid1.Coords) (v540 : BitVec 32) (v546 : BitVec 32) (k1_t243 : Fin (k1_t243_loop i v540 v546).trips) : Fin 2 → Nat :=
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let c1_i32_1197 : BitVec 32 := 1#32
  let arg13 : BitVec 32 := Scf.iv v1732 c1_i32_1197 k1_t243
  let v1836 : Index := Scalar.indexCast arg13
  let c96 : Index := 96#32
  ![v1836.toNat, 96]
def k1_off974 (i : grid1.Coords) (v540 : BitVec 32) (v546 : BitVec 32) (k1_t243 : Fin (k1_t243_loop i v540 v546).trips) : Fin 2 → Nat :=
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let c1_i32_1197 : BitVec 32 := 1#32
  let arg13 : BitVec 32 := Scf.iv v1732 c1_i32_1197 k1_t243
  let v1840 : Index := Scalar.indexCast arg13
  let c112 : Index := 112#32
  ![v1840.toNat, 112]
@[reducible] def k1_t244_loop (i : grid1.Coords) (v540 : BitVec 32) (v546 : BitVec 32) : Scf.Loop 32 :=
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let c256_i32_1144 : BitVec 32 := 256#32
  let c0_i32_1143 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c768_i32_1142 : BitVec 32 := 768#32
  let v1733 : BitVec 32 := Scalar.subi v550 c768_i32_1142
  let v1734 : BitVec 32 := Scalar.maxsi c0_i32_1143 v1733
  let v1735 : BitVec 32 := Scalar.minsi c256_i32_1144 v1734
  let v1805 : BitVec 32 := Scalar.subi v1735 v1732
  let c1_i32_1196 : BitVec 32 := 1#32
  let v1807 : BitVec 32 := Scalar.divsi v1805 c1_i32_1196
  let v1808 : BitVec 32 := Scalar.muli v1807 c1_i32_1196
  let v1809 : BitVec 32 := Scalar.addi v1732 v1808
  let v1806 : BitVec 32 := Scalar.addi v1732 v1805
  let c1_i32_1198 : BitVec 32 := 1#32
  ⟨v1809, v1806, c1_i32_1198⟩
def k1_off975 (i : grid1.Coords) (v540 : BitVec 32) (v546 : BitVec 32) (k1_t244 : Fin (k1_t244_loop i v540 v546).trips) : Fin 2 → Nat :=
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let c256_i32_1144 : BitVec 32 := 256#32
  let c0_i32_1143 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c768_i32_1142 : BitVec 32 := 768#32
  let v1733 : BitVec 32 := Scalar.subi v550 c768_i32_1142
  let v1734 : BitVec 32 := Scalar.maxsi c0_i32_1143 v1733
  let v1735 : BitVec 32 := Scalar.minsi c256_i32_1144 v1734
  let v1805 : BitVec 32 := Scalar.subi v1735 v1732
  let c1_i32_1196 : BitVec 32 := 1#32
  let v1807 : BitVec 32 := Scalar.divsi v1805 c1_i32_1196
  let v1808 : BitVec 32 := Scalar.muli v1807 c1_i32_1196
  let v1809 : BitVec 32 := Scalar.addi v1732 v1808
  let c1_i32_1198 : BitVec 32 := 1#32
  let arg13 : BitVec 32 := Scf.iv v1809 c1_i32_1198 k1_t244
  let v1828 : Index := Scalar.indexCast arg13
  let c64 : Index := 64#32
  ![v1828.toNat, 64]
def k1_off976 (i : grid1.Coords) (v540 : BitVec 32) (v546 : BitVec 32) (k1_t244 : Fin (k1_t244_loop i v540 v546).trips) : Fin 2 → Nat :=
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let c256_i32_1144 : BitVec 32 := 256#32
  let c0_i32_1143 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c768_i32_1142 : BitVec 32 := 768#32
  let v1733 : BitVec 32 := Scalar.subi v550 c768_i32_1142
  let v1734 : BitVec 32 := Scalar.maxsi c0_i32_1143 v1733
  let v1735 : BitVec 32 := Scalar.minsi c256_i32_1144 v1734
  let v1805 : BitVec 32 := Scalar.subi v1735 v1732
  let c1_i32_1196 : BitVec 32 := 1#32
  let v1807 : BitVec 32 := Scalar.divsi v1805 c1_i32_1196
  let v1808 : BitVec 32 := Scalar.muli v1807 c1_i32_1196
  let v1809 : BitVec 32 := Scalar.addi v1732 v1808
  let c1_i32_1198 : BitVec 32 := 1#32
  let arg13 : BitVec 32 := Scf.iv v1809 c1_i32_1198 k1_t244
  let v1832 : Index := Scalar.indexCast arg13
  let c80 : Index := 80#32
  ![v1832.toNat, 80]
def k1_off977 (i : grid1.Coords) (v540 : BitVec 32) (v546 : BitVec 32) (k1_t244 : Fin (k1_t244_loop i v540 v546).trips) : Fin 2 → Nat :=
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let c256_i32_1144 : BitVec 32 := 256#32
  let c0_i32_1143 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c768_i32_1142 : BitVec 32 := 768#32
  let v1733 : BitVec 32 := Scalar.subi v550 c768_i32_1142
  let v1734 : BitVec 32 := Scalar.maxsi c0_i32_1143 v1733
  let v1735 : BitVec 32 := Scalar.minsi c256_i32_1144 v1734
  let v1805 : BitVec 32 := Scalar.subi v1735 v1732
  let c1_i32_1196 : BitVec 32 := 1#32
  let v1807 : BitVec 32 := Scalar.divsi v1805 c1_i32_1196
  let v1808 : BitVec 32 := Scalar.muli v1807 c1_i32_1196
  let v1809 : BitVec 32 := Scalar.addi v1732 v1808
  let c1_i32_1198 : BitVec 32 := 1#32
  let arg13 : BitVec 32 := Scf.iv v1809 c1_i32_1198 k1_t244
  let v1836 : Index := Scalar.indexCast arg13
  let c96 : Index := 96#32
  ![v1836.toNat, 96]
def k1_off978 (i : grid1.Coords) (v540 : BitVec 32) (v546 : BitVec 32) (k1_t244 : Fin (k1_t244_loop i v540 v546).trips) : Fin 2 → Nat :=
  let c256_i32_1141 : BitVec 32 := 256#32
  let c0_i32_1140 : BitVec 32 := 0#32
  let c1024_i32_237 : BitVec 32 := 1024#32
  let c0_i32_236 : BitVec 32 := 0#32
  let c65536_i32_235 : BitVec 32 := 65536#32
  let v541 : BitVec 32 := Scalar.subi v540 c65536_i32_235
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v542 : BitVec 32 := Scalar.subi v541 v3
  let v543 : BitVec 32 := Scalar.maxsi c0_i32_236 v542
  let v544 : BitVec 32 := Scalar.minsi c1024_i32_237 v543
  let c768_i32_1139 : BitVec 32 := 768#32
  let v1730 : BitVec 32 := Scalar.subi v544 c768_i32_1139
  let v1731 : BitVec 32 := Scalar.maxsi c0_i32_1140 v1730
  let v1732 : BitVec 32 := Scalar.minsi c256_i32_1141 v1731
  let c256_i32_1144 : BitVec 32 := 256#32
  let c0_i32_1143 : BitVec 32 := 0#32
  let c1024_i32_240 : BitVec 32 := 1024#32
  let c0_i32_239 : BitVec 32 := 0#32
  let c65536_i32_238 : BitVec 32 := 65536#32
  let v547 : BitVec 32 := Scalar.subi v546 c65536_i32_238
  let v548 : BitVec 32 := Scalar.subi v547 v3
  let v549 : BitVec 32 := Scalar.maxsi c0_i32_239 v548
  let v550 : BitVec 32 := Scalar.minsi c1024_i32_240 v549
  let c768_i32_1142 : BitVec 32 := 768#32
  let v1733 : BitVec 32 := Scalar.subi v550 c768_i32_1142
  let v1734 : BitVec 32 := Scalar.maxsi c0_i32_1143 v1733
  let v1735 : BitVec 32 := Scalar.minsi c256_i32_1144 v1734
  let v1805 : BitVec 32 := Scalar.subi v1735 v1732
  let c1_i32_1196 : BitVec 32 := 1#32
  let v1807 : BitVec 32 := Scalar.divsi v1805 c1_i32_1196
  let v1808 : BitVec 32 := Scalar.muli v1807 c1_i32_1196
  let v1809 : BitVec 32 := Scalar.addi v1732 v1808
  let c1_i32_1198 : BitVec 32 := 1#32
  let arg13 : BitVec 32 := Scf.iv v1809 c1_i32_1198 k1_t244
  let v1840 : Index := Scalar.indexCast arg13
  let c112 : Index := 112#32
  ![v1840.toNat, 112]

def k1_chk26_0 (i : grid1.Coords) (v540 : BitVec 32) (v546 : BitVec 32) : Prop :=
  (∀ (k1_h26 : k1_cond26 i v540 v546 = 1#1), (k1_t51_loop i v540 v546).OK) ∧
  (∀ k1_t51 : Fin (k1_t51_loop i v540 v546).trips, ∀ (k1_h26 : k1_cond26 i v540 v546 = 1#1), ∀ a, (k1_off202 i v540 v546 k1_t51) a + S1x16.size a ≤ S256x128.size a) ∧
  (∀ k1_t51 : Fin (k1_t51_loop i v540 v546).trips, ∀ (k1_h26 : k1_cond26 i v540 v546 = 1#1), ∀ a, (k1_off203 i v540 v546 k1_t51) a + S1x16.size a ≤ S256x128.size a) ∧
  (∀ k1_t51 : Fin (k1_t51_loop i v540 v546).trips, ∀ (k1_h26 : k1_cond26 i v540 v546 = 1#1), ∀ a, (k1_off204 i v540 v546 k1_t51) a + S1x16.size a ≤ S256x128.size a) ∧
  (∀ k1_t51 : Fin (k1_t51_loop i v540 v546).trips, ∀ (k1_h26 : k1_cond26 i v540 v546 = 1#1), ∀ a, (k1_off205 i v540 v546 k1_t51) a + S1x16.size a ≤ S256x128.size a) ∧
  (∀ (k1_h26 : k1_cond26 i v540 v546 = 1#1), (k1_t52_loop i v540 v546).OK) ∧
  (∀ k1_t52 : Fin (k1_t52_loop i v540 v546).trips, ∀ (k1_h26 : k1_cond26 i v540 v546 = 1#1), ∀ a, (k1_off206 i v540 v546 k1_t52) a + S1x16.size a ≤ S256x128.size a) ∧
  (∀ k1_t52 : Fin (k1_t52_loop i v540 v546).trips, ∀ (k1_h26 : k1_cond26 i v540 v546 = 1#1), ∀ a, (k1_off207 i v540 v546 k1_t52) a + S1x16.size a ≤ S256x128.size a) ∧
  (∀ k1_t52 : Fin (k1_t52_loop i v540 v546).trips, ∀ (k1_h26 : k1_cond26 i v540 v546 = 1#1), ∀ a, (k1_off208 i v540 v546 k1_t52) a + S1x16.size a ≤ S256x128.size a) ∧
  (∀ k1_t52 : Fin (k1_t52_loop i v540 v546).trips, ∀ (k1_h26 : k1_cond26 i v540 v546 = 1#1), ∀ a, (k1_off209 i v540 v546 k1_t52) a + S1x16.size a ≤ S256x128.size a) ∧
  (∀ (k1_h58 : k1_cond58 i v540 v546 = 1#1), (k1_t115_loop i v540 v546).OK) ∧
  (∀ k1_t115 : Fin (k1_t115_loop i v540 v546).trips, ∀ (k1_h58 : k1_cond58 i v540 v546 = 1#1), ∀ a, (k1_off459 i v540 v546 k1_t115) a + S1x16.size a ≤ S256x128.size a) ∧
  (∀ k1_t115 : Fin (k1_t115_loop i v540 v546).trips, ∀ (k1_h58 : k1_cond58 i v540 v546 = 1#1), ∀ a, (k1_off460 i v540 v546 k1_t115) a + S1x16.size a ≤ S256x128.size a) ∧
  (∀ k1_t115 : Fin (k1_t115_loop i v540 v546).trips, ∀ (k1_h58 : k1_cond58 i v540 v546 = 1#1), ∀ a, (k1_off461 i v540 v546 k1_t115) a + S1x16.size a ≤ S256x128.size a) ∧
  (∀ k1_t115 : Fin (k1_t115_loop i v540 v546).trips, ∀ (k1_h58 : k1_cond58 i v540 v546 = 1#1), ∀ a, (k1_off462 i v540 v546 k1_t115) a + S1x16.size a ≤ S256x128.size a) ∧
  (∀ (k1_h58 : k1_cond58 i v540 v546 = 1#1), (k1_t116_loop i v540 v546).OK) ∧
  (∀ k1_t116 : Fin (k1_t116_loop i v540 v546).trips, ∀ (k1_h58 : k1_cond58 i v540 v546 = 1#1), ∀ a, (k1_off463 i v540 v546 k1_t116) a + S1x16.size a ≤ S256x128.size a) ∧
  (∀ k1_t116 : Fin (k1_t116_loop i v540 v546).trips, ∀ (k1_h58 : k1_cond58 i v540 v546 = 1#1), ∀ a, (k1_off464 i v540 v546 k1_t116) a + S1x16.size a ≤ S256x128.size a) ∧
  (∀ k1_t116 : Fin (k1_t116_loop i v540 v546).trips, ∀ (k1_h58 : k1_cond58 i v540 v546 = 1#1), ∀ a, (k1_off465 i v540 v546 k1_t116) a + S1x16.size a ≤ S256x128.size a) ∧
  (∀ k1_t116 : Fin (k1_t116_loop i v540 v546).trips, ∀ (k1_h58 : k1_cond58 i v540 v546 = 1#1), ∀ a, (k1_off466 i v540 v546 k1_t116) a + S1x16.size a ≤ S256x128.size a) ∧
  (∀ (k1_h90 : k1_cond90 i v540 v546 = 1#1), (k1_t179_loop i v540 v546).OK) ∧
  (∀ k1_t179 : Fin (k1_t179_loop i v540 v546).trips, ∀ (k1_h90 : k1_cond90 i v540 v546 = 1#1), ∀ a, (k1_off715 i v540 v546 k1_t179) a + S1x16.size a ≤ S256x128.size a) ∧
  (∀ k1_t179 : Fin (k1_t179_loop i v540 v546).trips, ∀ (k1_h90 : k1_cond90 i v540 v546 = 1#1), ∀ a, (k1_off716 i v540 v546 k1_t179) a + S1x16.size a ≤ S256x128.size a) ∧
  (∀ k1_t179 : Fin (k1_t179_loop i v540 v546).trips, ∀ (k1_h90 : k1_cond90 i v540 v546 = 1#1), ∀ a, (k1_off717 i v540 v546 k1_t179) a + S1x16.size a ≤ S256x128.size a) ∧
  (∀ k1_t179 : Fin (k1_t179_loop i v540 v546).trips, ∀ (k1_h90 : k1_cond90 i v540 v546 = 1#1), ∀ a, (k1_off718 i v540 v546 k1_t179) a + S1x16.size a ≤ S256x128.size a) ∧
  (∀ (k1_h90 : k1_cond90 i v540 v546 = 1#1), (k1_t180_loop i v540 v546).OK) ∧
  (∀ k1_t180 : Fin (k1_t180_loop i v540 v546).trips, ∀ (k1_h90 : k1_cond90 i v540 v546 = 1#1), ∀ a, (k1_off719 i v540 v546 k1_t180) a + S1x16.size a ≤ S256x128.size a) ∧
  (∀ k1_t180 : Fin (k1_t180_loop i v540 v546).trips, ∀ (k1_h90 : k1_cond90 i v540 v546 = 1#1), ∀ a, (k1_off720 i v540 v546 k1_t180) a + S1x16.size a ≤ S256x128.size a) ∧
  (∀ k1_t180 : Fin (k1_t180_loop i v540 v546).trips, ∀ (k1_h90 : k1_cond90 i v540 v546 = 1#1), ∀ a, (k1_off721 i v540 v546 k1_t180) a + S1x16.size a ≤ S256x128.size a) ∧
  (∀ k1_t180 : Fin (k1_t180_loop i v540 v546).trips, ∀ (k1_h90 : k1_cond90 i v540 v546 = 1#1), ∀ a, (k1_off722 i v540 v546 k1_t180) a + S1x16.size a ≤ S256x128.size a) ∧
  (∀ (k1_h122 : k1_cond122 i v540 v546 = 1#1), (k1_t243_loop i v540 v546).OK) ∧
  (∀ k1_t243 : Fin (k1_t243_loop i v540 v546).trips, ∀ (k1_h122 : k1_cond122 i v540 v546 = 1#1), ∀ a, (k1_off971 i v540 v546 k1_t243) a + S1x16.size a ≤ S256x128.size a)
def k1_chk26_1 (i : grid1.Coords) (v540 : BitVec 32) (v546 : BitVec 32) : Prop :=
  (∀ k1_t243 : Fin (k1_t243_loop i v540 v546).trips, ∀ (k1_h122 : k1_cond122 i v540 v546 = 1#1), ∀ a, (k1_off972 i v540 v546 k1_t243) a + S1x16.size a ≤ S256x128.size a) ∧
  (∀ k1_t243 : Fin (k1_t243_loop i v540 v546).trips, ∀ (k1_h122 : k1_cond122 i v540 v546 = 1#1), ∀ a, (k1_off973 i v540 v546 k1_t243) a + S1x16.size a ≤ S256x128.size a) ∧
  (∀ k1_t243 : Fin (k1_t243_loop i v540 v546).trips, ∀ (k1_h122 : k1_cond122 i v540 v546 = 1#1), ∀ a, (k1_off974 i v540 v546 k1_t243) a + S1x16.size a ≤ S256x128.size a) ∧
  (∀ (k1_h122 : k1_cond122 i v540 v546 = 1#1), (k1_t244_loop i v540 v546).OK) ∧
  (∀ k1_t244 : Fin (k1_t244_loop i v540 v546).trips, ∀ (k1_h122 : k1_cond122 i v540 v546 = 1#1), ∀ a, (k1_off975 i v540 v546 k1_t244) a + S1x16.size a ≤ S256x128.size a) ∧
  (∀ k1_t244 : Fin (k1_t244_loop i v540 v546).trips, ∀ (k1_h122 : k1_cond122 i v540 v546 = 1#1), ∀ a, (k1_off976 i v540 v546 k1_t244) a + S1x16.size a ≤ S256x128.size a) ∧
  (∀ k1_t244 : Fin (k1_t244_loop i v540 v546).trips, ∀ (k1_h122 : k1_cond122 i v540 v546 = 1#1), ∀ a, (k1_off977 i v540 v546 k1_t244) a + S1x16.size a ≤ S256x128.size a) ∧
  (∀ k1_t244 : Fin (k1_t244_loop i v540 v546).trips, ∀ (k1_h122 : k1_cond122 i v540 v546 = 1#1), ∀ a, (k1_off978 i v540 v546 k1_t244) a + S1x16.size a ≤ S256x128.size a)
def k1_chk26 (i : grid1.Coords) (v540 : BitVec 32) (v546 : BitVec 32) : Prop :=
  k1_chk26_0 i v540 v546 ∧
  k1_chk26_1 i v540 v546
theorem k1_t51_ok : ∀ (i : grid1.Coords) (v540 : BitVec 32) (v546 : BitVec 32) (k1_hw26 : k1_chk26 i v540 v546), ∀ (k1_h26 : k1_cond26 i v540 v546 = 1#1), (k1_t51_loop i v540 v546).OK := fun i v540 v546 k1_hw26 k1_h26 => k1_hw26.1.1 k1_h26
theorem k1_off202_inb : ∀ (i : grid1.Coords) (v540 : BitVec 32) (v546 : BitVec 32) (k1_hw26 : k1_chk26 i v540 v546) (k1_t51 : Fin (k1_t51_loop i v540 v546).trips), ∀ (k1_h26 : k1_cond26 i v540 v546 = 1#1), ∀ a, (k1_off202 i v540 v546 k1_t51) a + S1x16.size a ≤ S256x128.size a := fun i v540 v546 k1_hw26 k1_t51 k1_h26 => k1_hw26.1.2.1 k1_t51 k1_h26
theorem k1_off203_inb : ∀ (i : grid1.Coords) (v540 : BitVec 32) (v546 : BitVec 32) (k1_hw26 : k1_chk26 i v540 v546) (k1_t51 : Fin (k1_t51_loop i v540 v546).trips), ∀ (k1_h26 : k1_cond26 i v540 v546 = 1#1), ∀ a, (k1_off203 i v540 v546 k1_t51) a + S1x16.size a ≤ S256x128.size a := fun i v540 v546 k1_hw26 k1_t51 k1_h26 => k1_hw26.1.2.2.1 k1_t51 k1_h26
theorem k1_off204_inb : ∀ (i : grid1.Coords) (v540 : BitVec 32) (v546 : BitVec 32) (k1_hw26 : k1_chk26 i v540 v546) (k1_t51 : Fin (k1_t51_loop i v540 v546).trips), ∀ (k1_h26 : k1_cond26 i v540 v546 = 1#1), ∀ a, (k1_off204 i v540 v546 k1_t51) a + S1x16.size a ≤ S256x128.size a := fun i v540 v546 k1_hw26 k1_t51 k1_h26 => k1_hw26.1.2.2.2.1 k1_t51 k1_h26
theorem k1_off205_inb : ∀ (i : grid1.Coords) (v540 : BitVec 32) (v546 : BitVec 32) (k1_hw26 : k1_chk26 i v540 v546) (k1_t51 : Fin (k1_t51_loop i v540 v546).trips), ∀ (k1_h26 : k1_cond26 i v540 v546 = 1#1), ∀ a, (k1_off205 i v540 v546 k1_t51) a + S1x16.size a ≤ S256x128.size a := fun i v540 v546 k1_hw26 k1_t51 k1_h26 => k1_hw26.1.2.2.2.2.1 k1_t51 k1_h26
theorem k1_t52_ok : ∀ (i : grid1.Coords) (v540 : BitVec 32) (v546 : BitVec 32) (k1_hw26 : k1_chk26 i v540 v546), ∀ (k1_h26 : k1_cond26 i v540 v546 = 1#1), (k1_t52_loop i v540 v546).OK := fun i v540 v546 k1_hw26 k1_h26 => k1_hw26.1.2.2.2.2.2.1 k1_h26
theorem k1_off206_inb : ∀ (i : grid1.Coords) (v540 : BitVec 32) (v546 : BitVec 32) (k1_hw26 : k1_chk26 i v540 v546) (k1_t52 : Fin (k1_t52_loop i v540 v546).trips), ∀ (k1_h26 : k1_cond26 i v540 v546 = 1#1), ∀ a, (k1_off206 i v540 v546 k1_t52) a + S1x16.size a ≤ S256x128.size a := fun i v540 v546 k1_hw26 k1_t52 k1_h26 => k1_hw26.1.2.2.2.2.2.2.1 k1_t52 k1_h26
theorem k1_off207_inb : ∀ (i : grid1.Coords) (v540 : BitVec 32) (v546 : BitVec 32) (k1_hw26 : k1_chk26 i v540 v546) (k1_t52 : Fin (k1_t52_loop i v540 v546).trips), ∀ (k1_h26 : k1_cond26 i v540 v546 = 1#1), ∀ a, (k1_off207 i v540 v546 k1_t52) a + S1x16.size a ≤ S256x128.size a := fun i v540 v546 k1_hw26 k1_t52 k1_h26 => k1_hw26.1.2.2.2.2.2.2.2.1 k1_t52 k1_h26
theorem k1_off208_inb : ∀ (i : grid1.Coords) (v540 : BitVec 32) (v546 : BitVec 32) (k1_hw26 : k1_chk26 i v540 v546) (k1_t52 : Fin (k1_t52_loop i v540 v546).trips), ∀ (k1_h26 : k1_cond26 i v540 v546 = 1#1), ∀ a, (k1_off208 i v540 v546 k1_t52) a + S1x16.size a ≤ S256x128.size a := fun i v540 v546 k1_hw26 k1_t52 k1_h26 => k1_hw26.1.2.2.2.2.2.2.2.2.1 k1_t52 k1_h26
theorem k1_off209_inb : ∀ (i : grid1.Coords) (v540 : BitVec 32) (v546 : BitVec 32) (k1_hw26 : k1_chk26 i v540 v546) (k1_t52 : Fin (k1_t52_loop i v540 v546).trips), ∀ (k1_h26 : k1_cond26 i v540 v546 = 1#1), ∀ a, (k1_off209 i v540 v546 k1_t52) a + S1x16.size a ≤ S256x128.size a := fun i v540 v546 k1_hw26 k1_t52 k1_h26 => k1_hw26.1.2.2.2.2.2.2.2.2.2.1 k1_t52 k1_h26
theorem k1_t115_ok : ∀ (i : grid1.Coords) (v540 : BitVec 32) (v546 : BitVec 32) (k1_hw26 : k1_chk26 i v540 v546), ∀ (k1_h58 : k1_cond58 i v540 v546 = 1#1), (k1_t115_loop i v540 v546).OK := fun i v540 v546 k1_hw26 k1_h58 => k1_hw26.1.2.2.2.2.2.2.2.2.2.2.1 k1_h58
theorem k1_off459_inb : ∀ (i : grid1.Coords) (v540 : BitVec 32) (v546 : BitVec 32) (k1_hw26 : k1_chk26 i v540 v546) (k1_t115 : Fin (k1_t115_loop i v540 v546).trips), ∀ (k1_h58 : k1_cond58 i v540 v546 = 1#1), ∀ a, (k1_off459 i v540 v546 k1_t115) a + S1x16.size a ≤ S256x128.size a := fun i v540 v546 k1_hw26 k1_t115 k1_h58 => k1_hw26.1.2.2.2.2.2.2.2.2.2.2.2.1 k1_t115 k1_h58
theorem k1_off460_inb : ∀ (i : grid1.Coords) (v540 : BitVec 32) (v546 : BitVec 32) (k1_hw26 : k1_chk26 i v540 v546) (k1_t115 : Fin (k1_t115_loop i v540 v546).trips), ∀ (k1_h58 : k1_cond58 i v540 v546 = 1#1), ∀ a, (k1_off460 i v540 v546 k1_t115) a + S1x16.size a ≤ S256x128.size a := fun i v540 v546 k1_hw26 k1_t115 k1_h58 => k1_hw26.1.2.2.2.2.2.2.2.2.2.2.2.2.1 k1_t115 k1_h58
theorem k1_off461_inb : ∀ (i : grid1.Coords) (v540 : BitVec 32) (v546 : BitVec 32) (k1_hw26 : k1_chk26 i v540 v546) (k1_t115 : Fin (k1_t115_loop i v540 v546).trips), ∀ (k1_h58 : k1_cond58 i v540 v546 = 1#1), ∀ a, (k1_off461 i v540 v546 k1_t115) a + S1x16.size a ≤ S256x128.size a := fun i v540 v546 k1_hw26 k1_t115 k1_h58 => k1_hw26.1.2.2.2.2.2.2.2.2.2.2.2.2.2.1 k1_t115 k1_h58
theorem k1_off462_inb : ∀ (i : grid1.Coords) (v540 : BitVec 32) (v546 : BitVec 32) (k1_hw26 : k1_chk26 i v540 v546) (k1_t115 : Fin (k1_t115_loop i v540 v546).trips), ∀ (k1_h58 : k1_cond58 i v540 v546 = 1#1), ∀ a, (k1_off462 i v540 v546 k1_t115) a + S1x16.size a ≤ S256x128.size a := fun i v540 v546 k1_hw26 k1_t115 k1_h58 => k1_hw26.1.2.2.2.2.2.2.2.2.2.2.2.2.2.2.1 k1_t115 k1_h58
theorem k1_t116_ok : ∀ (i : grid1.Coords) (v540 : BitVec 32) (v546 : BitVec 32) (k1_hw26 : k1_chk26 i v540 v546), ∀ (k1_h58 : k1_cond58 i v540 v546 = 1#1), (k1_t116_loop i v540 v546).OK := fun i v540 v546 k1_hw26 k1_h58 => k1_hw26.1.2.2.2.2.2.2.2.2.2.2.2.2.2.2.2.1 k1_h58
theorem k1_off463_inb : ∀ (i : grid1.Coords) (v540 : BitVec 32) (v546 : BitVec 32) (k1_hw26 : k1_chk26 i v540 v546) (k1_t116 : Fin (k1_t116_loop i v540 v546).trips), ∀ (k1_h58 : k1_cond58 i v540 v546 = 1#1), ∀ a, (k1_off463 i v540 v546 k1_t116) a + S1x16.size a ≤ S256x128.size a := fun i v540 v546 k1_hw26 k1_t116 k1_h58 => k1_hw26.1.2.2.2.2.2.2.2.2.2.2.2.2.2.2.2.2.1 k1_t116 k1_h58
theorem k1_off464_inb : ∀ (i : grid1.Coords) (v540 : BitVec 32) (v546 : BitVec 32) (k1_hw26 : k1_chk26 i v540 v546) (k1_t116 : Fin (k1_t116_loop i v540 v546).trips), ∀ (k1_h58 : k1_cond58 i v540 v546 = 1#1), ∀ a, (k1_off464 i v540 v546 k1_t116) a + S1x16.size a ≤ S256x128.size a := fun i v540 v546 k1_hw26 k1_t116 k1_h58 => k1_hw26.1.2.2.2.2.2.2.2.2.2.2.2.2.2.2.2.2.2.1 k1_t116 k1_h58
theorem k1_off465_inb : ∀ (i : grid1.Coords) (v540 : BitVec 32) (v546 : BitVec 32) (k1_hw26 : k1_chk26 i v540 v546) (k1_t116 : Fin (k1_t116_loop i v540 v546).trips), ∀ (k1_h58 : k1_cond58 i v540 v546 = 1#1), ∀ a, (k1_off465 i v540 v546 k1_t116) a + S1x16.size a ≤ S256x128.size a := fun i v540 v546 k1_hw26 k1_t116 k1_h58 => k1_hw26.1.2.2.2.2.2.2.2.2.2.2.2.2.2.2.2.2.2.2.1 k1_t116 k1_h58
theorem k1_off466_inb : ∀ (i : grid1.Coords) (v540 : BitVec 32) (v546 : BitVec 32) (k1_hw26 : k1_chk26 i v540 v546) (k1_t116 : Fin (k1_t116_loop i v540 v546).trips), ∀ (k1_h58 : k1_cond58 i v540 v546 = 1#1), ∀ a, (k1_off466 i v540 v546 k1_t116) a + S1x16.size a ≤ S256x128.size a := fun i v540 v546 k1_hw26 k1_t116 k1_h58 => k1_hw26.1.2.2.2.2.2.2.2.2.2.2.2.2.2.2.2.2.2.2.2.1 k1_t116 k1_h58
theorem k1_t179_ok : ∀ (i : grid1.Coords) (v540 : BitVec 32) (v546 : BitVec 32) (k1_hw26 : k1_chk26 i v540 v546), ∀ (k1_h90 : k1_cond90 i v540 v546 = 1#1), (k1_t179_loop i v540 v546).OK := fun i v540 v546 k1_hw26 k1_h90 => k1_hw26.1.2.2.2.2.2.2.2.2.2.2.2.2.2.2.2.2.2.2.2.2.1 k1_h90
theorem k1_off715_inb : ∀ (i : grid1.Coords) (v540 : BitVec 32) (v546 : BitVec 32) (k1_hw26 : k1_chk26 i v540 v546) (k1_t179 : Fin (k1_t179_loop i v540 v546).trips), ∀ (k1_h90 : k1_cond90 i v540 v546 = 1#1), ∀ a, (k1_off715 i v540 v546 k1_t179) a + S1x16.size a ≤ S256x128.size a := fun i v540 v546 k1_hw26 k1_t179 k1_h90 => k1_hw26.1.2.2.2.2.2.2.2.2.2.2.2.2.2.2.2.2.2.2.2.2.2.1 k1_t179 k1_h90
theorem k1_off716_inb : ∀ (i : grid1.Coords) (v540 : BitVec 32) (v546 : BitVec 32) (k1_hw26 : k1_chk26 i v540 v546) (k1_t179 : Fin (k1_t179_loop i v540 v546).trips), ∀ (k1_h90 : k1_cond90 i v540 v546 = 1#1), ∀ a, (k1_off716 i v540 v546 k1_t179) a + S1x16.size a ≤ S256x128.size a := fun i v540 v546 k1_hw26 k1_t179 k1_h90 => k1_hw26.1.2.2.2.2.2.2.2.2.2.2.2.2.2.2.2.2.2.2.2.2.2.2.1 k1_t179 k1_h90
theorem k1_off717_inb : ∀ (i : grid1.Coords) (v540 : BitVec 32) (v546 : BitVec 32) (k1_hw26 : k1_chk26 i v540 v546) (k1_t179 : Fin (k1_t179_loop i v540 v546).trips), ∀ (k1_h90 : k1_cond90 i v540 v546 = 1#1), ∀ a, (k1_off717 i v540 v546 k1_t179) a + S1x16.size a ≤ S256x128.size a := fun i v540 v546 k1_hw26 k1_t179 k1_h90 => k1_hw26.1.2.2.2.2.2.2.2.2.2.2.2.2.2.2.2.2.2.2.2.2.2.2.2.1 k1_t179 k1_h90
theorem k1_off718_inb : ∀ (i : grid1.Coords) (v540 : BitVec 32) (v546 : BitVec 32) (k1_hw26 : k1_chk26 i v540 v546) (k1_t179 : Fin (k1_t179_loop i v540 v546).trips), ∀ (k1_h90 : k1_cond90 i v540 v546 = 1#1), ∀ a, (k1_off718 i v540 v546 k1_t179) a + S1x16.size a ≤ S256x128.size a := fun i v540 v546 k1_hw26 k1_t179 k1_h90 => k1_hw26.1.2.2.2.2.2.2.2.2.2.2.2.2.2.2.2.2.2.2.2.2.2.2.2.2.1 k1_t179 k1_h90
theorem k1_t180_ok : ∀ (i : grid1.Coords) (v540 : BitVec 32) (v546 : BitVec 32) (k1_hw26 : k1_chk26 i v540 v546), ∀ (k1_h90 : k1_cond90 i v540 v546 = 1#1), (k1_t180_loop i v540 v546).OK := fun i v540 v546 k1_hw26 k1_h90 => k1_hw26.1.2.2.2.2.2.2.2.2.2.2.2.2.2.2.2.2.2.2.2.2.2.2.2.2.2.1 k1_h90
theorem k1_off719_inb : ∀ (i : grid1.Coords) (v540 : BitVec 32) (v546 : BitVec 32) (k1_hw26 : k1_chk26 i v540 v546) (k1_t180 : Fin (k1_t180_loop i v540 v546).trips), ∀ (k1_h90 : k1_cond90 i v540 v546 = 1#1), ∀ a, (k1_off719 i v540 v546 k1_t180) a + S1x16.size a ≤ S256x128.size a := fun i v540 v546 k1_hw26 k1_t180 k1_h90 => k1_hw26.1.2.2.2.2.2.2.2.2.2.2.2.2.2.2.2.2.2.2.2.2.2.2.2.2.2.2.1 k1_t180 k1_h90
theorem k1_off720_inb : ∀ (i : grid1.Coords) (v540 : BitVec 32) (v546 : BitVec 32) (k1_hw26 : k1_chk26 i v540 v546) (k1_t180 : Fin (k1_t180_loop i v540 v546).trips), ∀ (k1_h90 : k1_cond90 i v540 v546 = 1#1), ∀ a, (k1_off720 i v540 v546 k1_t180) a + S1x16.size a ≤ S256x128.size a := fun i v540 v546 k1_hw26 k1_t180 k1_h90 => k1_hw26.1.2.2.2.2.2.2.2.2.2.2.2.2.2.2.2.2.2.2.2.2.2.2.2.2.2.2.2.1 k1_t180 k1_h90
theorem k1_off721_inb : ∀ (i : grid1.Coords) (v540 : BitVec 32) (v546 : BitVec 32) (k1_hw26 : k1_chk26 i v540 v546) (k1_t180 : Fin (k1_t180_loop i v540 v546).trips), ∀ (k1_h90 : k1_cond90 i v540 v546 = 1#1), ∀ a, (k1_off721 i v540 v546 k1_t180) a + S1x16.size a ≤ S256x128.size a := fun i v540 v546 k1_hw26 k1_t180 k1_h90 => k1_hw26.1.2.2.2.2.2.2.2.2.2.2.2.2.2.2.2.2.2.2.2.2.2.2.2.2.2.2.2.2.1 k1_t180 k1_h90
theorem k1_off722_inb : ∀ (i : grid1.Coords) (v540 : BitVec 32) (v546 : BitVec 32) (k1_hw26 : k1_chk26 i v540 v546) (k1_t180 : Fin (k1_t180_loop i v540 v546).trips), ∀ (k1_h90 : k1_cond90 i v540 v546 = 1#1), ∀ a, (k1_off722 i v540 v546 k1_t180) a + S1x16.size a ≤ S256x128.size a := fun i v540 v546 k1_hw26 k1_t180 k1_h90 => k1_hw26.1.2.2.2.2.2.2.2.2.2.2.2.2.2.2.2.2.2.2.2.2.2.2.2.2.2.2.2.2.2.1 k1_t180 k1_h90
theorem k1_t243_ok : ∀ (i : grid1.Coords) (v540 : BitVec 32) (v546 : BitVec 32) (k1_hw26 : k1_chk26 i v540 v546), ∀ (k1_h122 : k1_cond122 i v540 v546 = 1#1), (k1_t243_loop i v540 v546).OK := fun i v540 v546 k1_hw26 k1_h122 => k1_hw26.1.2.2.2.2.2.2.2.2.2.2.2.2.2.2.2.2.2.2.2.2.2.2.2.2.2.2.2.2.2.2.1 k1_h122
theorem k1_off971_inb : ∀ (i : grid1.Coords) (v540 : BitVec 32) (v546 : BitVec 32) (k1_hw26 : k1_chk26 i v540 v546) (k1_t243 : Fin (k1_t243_loop i v540 v546).trips), ∀ (k1_h122 : k1_cond122 i v540 v546 = 1#1), ∀ a, (k1_off971 i v540 v546 k1_t243) a + S1x16.size a ≤ S256x128.size a := fun i v540 v546 k1_hw26 k1_t243 k1_h122 => k1_hw26.1.2.2.2.2.2.2.2.2.2.2.2.2.2.2.2.2.2.2.2.2.2.2.2.2.2.2.2.2.2.2.2 k1_t243 k1_h122
theorem k1_off972_inb : ∀ (i : grid1.Coords) (v540 : BitVec 32) (v546 : BitVec 32) (k1_hw26 : k1_chk26 i v540 v546) (k1_t243 : Fin (k1_t243_loop i v540 v546).trips), ∀ (k1_h122 : k1_cond122 i v540 v546 = 1#1), ∀ a, (k1_off972 i v540 v546 k1_t243) a + S1x16.size a ≤ S256x128.size a := fun i v540 v546 k1_hw26 k1_t243 k1_h122 => k1_hw26.2.1 k1_t243 k1_h122
theorem k1_off973_inb : ∀ (i : grid1.Coords) (v540 : BitVec 32) (v546 : BitVec 32) (k1_hw26 : k1_chk26 i v540 v546) (k1_t243 : Fin (k1_t243_loop i v540 v546).trips), ∀ (k1_h122 : k1_cond122 i v540 v546 = 1#1), ∀ a, (k1_off973 i v540 v546 k1_t243) a + S1x16.size a ≤ S256x128.size a := fun i v540 v546 k1_hw26 k1_t243 k1_h122 => k1_hw26.2.2.1 k1_t243 k1_h122
theorem k1_off974_inb : ∀ (i : grid1.Coords) (v540 : BitVec 32) (v546 : BitVec 32) (k1_hw26 : k1_chk26 i v540 v546) (k1_t243 : Fin (k1_t243_loop i v540 v546).trips), ∀ (k1_h122 : k1_cond122 i v540 v546 = 1#1), ∀ a, (k1_off974 i v540 v546 k1_t243) a + S1x16.size a ≤ S256x128.size a := fun i v540 v546 k1_hw26 k1_t243 k1_h122 => k1_hw26.2.2.2.1 k1_t243 k1_h122
theorem k1_t244_ok : ∀ (i : grid1.Coords) (v540 : BitVec 32) (v546 : BitVec 32) (k1_hw26 : k1_chk26 i v540 v546), ∀ (k1_h122 : k1_cond122 i v540 v546 = 1#1), (k1_t244_loop i v540 v546).OK := fun i v540 v546 k1_hw26 k1_h122 => k1_hw26.2.2.2.2.1 k1_h122
theorem k1_off975_inb : ∀ (i : grid1.Coords) (v540 : BitVec 32) (v546 : BitVec 32) (k1_hw26 : k1_chk26 i v540 v546) (k1_t244 : Fin (k1_t244_loop i v540 v546).trips), ∀ (k1_h122 : k1_cond122 i v540 v546 = 1#1), ∀ a, (k1_off975 i v540 v546 k1_t244) a + S1x16.size a ≤ S256x128.size a := fun i v540 v546 k1_hw26 k1_t244 k1_h122 => k1_hw26.2.2.2.2.2.1 k1_t244 k1_h122
theorem k1_off976_inb : ∀ (i : grid1.Coords) (v540 : BitVec 32) (v546 : BitVec 32) (k1_hw26 : k1_chk26 i v540 v546) (k1_t244 : Fin (k1_t244_loop i v540 v546).trips), ∀ (k1_h122 : k1_cond122 i v540 v546 = 1#1), ∀ a, (k1_off976 i v540 v546 k1_t244) a + S1x16.size a ≤ S256x128.size a := fun i v540 v546 k1_hw26 k1_t244 k1_h122 => k1_hw26.2.2.2.2.2.2.1 k1_t244 k1_h122
theorem k1_off977_inb : ∀ (i : grid1.Coords) (v540 : BitVec 32) (v546 : BitVec 32) (k1_hw26 : k1_chk26 i v540 v546) (k1_t244 : Fin (k1_t244_loop i v540 v546).trips), ∀ (k1_h122 : k1_cond122 i v540 v546 = 1#1), ∀ a, (k1_off977 i v540 v546 k1_t244) a + S1x16.size a ≤ S256x128.size a := fun i v540 v546 k1_hw26 k1_t244 k1_h122 => k1_hw26.2.2.2.2.2.2.2.1 k1_t244 k1_h122
theorem k1_off978_inb : ∀ (i : grid1.Coords) (v540 : BitVec 32) (v546 : BitVec 32) (k1_hw26 : k1_chk26 i v540 v546) (k1_t244 : Fin (k1_t244_loop i v540 v546).trips), ∀ (k1_h122 : k1_cond122 i v540 v546 = 1#1), ∀ a, (k1_off978 i v540 v546 k1_t244) a + S1x16.size a ≤ S256x128.size a := fun i v540 v546 k1_hw26 k1_t244 k1_h122 => k1_hw26.2.2.2.2.2.2.2.2 k1_t244 k1_h122

@[reducible] def k1_t245_loop (i : grid1.Coords) (v552 : BitVec 32) (v557 : BitVec 32) : Scf.Loop 32 :=
  let c256_i32_1148 : BitVec 32 := 256#32
  let c0_i32_1147 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let c256_i32_1151 : BitVec 32 := 256#32
  let c0_i32_1150 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c768_i32_1149 : BitVec 32 := 768#32
  let v1742 : BitVec 32 := Scalar.subi v560 c768_i32_1149
  let v1743 : BitVec 32 := Scalar.maxsi c0_i32_1150 v1742
  let v1744 : BitVec 32 := Scalar.minsi c256_i32_1151 v1743
  let v1805 : BitVec 32 := Scalar.subi v1744 v1741
  let c1_i32_1196 : BitVec 32 := 1#32
  let v1807 : BitVec 32 := Scalar.divsi v1805 c1_i32_1196
  let v1808 : BitVec 32 := Scalar.muli v1807 c1_i32_1196
  let v1809 : BitVec 32 := Scalar.addi v1741 v1808
  let c1_i32_1197 : BitVec 32 := 1#32
  ⟨v1741, v1809, c1_i32_1197⟩
def k1_cond123 (i : grid1.Coords) (v552 : BitVec 32) (v557 : BitVec 32) : BitVec 1 :=
  let c256_i32_1151 : BitVec 32 := 256#32
  let c0_i32_1150 : BitVec 32 := 0#32
  let c1024_i32_244 : BitVec 32 := 1024#32
  let c0_i32_243 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v558 : BitVec 32 := Scalar.subi v557 v3
  let v559 : BitVec 32 := Scalar.maxsi c0_i32_243 v558
  let v560 : BitVec 32 := Scalar.minsi c1024_i32_244 v559
  let c768_i32_1149 : BitVec 32 := 768#32
  let v1742 : BitVec 32 := Scalar.subi v560 c768_i32_1149
  let v1743 : BitVec 32 := Scalar.maxsi c0_i32_1150 v1742
  let v1744 : BitVec 32 := Scalar.minsi c256_i32_1151 v1743
  let c256_i32_1148 : BitVec 32 := 256#32
  let c0_i32_1147 : BitVec 32 := 0#32
  let c1024_i32_242 : BitVec 32 := 1024#32
  let c0_i32_241 : BitVec 32 := 0#32
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let v1745 : BitVec 1 := Scalar.cmpi .sgt v1744 v1741
  let v1746 : BitVec 32 := Scalar.extui v1745
  let c0_i32_1152 : BitVec 32 := 0#32
  let v1747 : BitVec 1 := Scalar.cmpi .ne v1746 c0_i32_1152
  v1747

def k1_off979 (i : grid1.Coords) (v552 : BitVec 32) (v557 : BitVec 32) (k1_t245 : Fin (k1_t245_loop i v552 v557).trips) : Fin 2 → Nat :=
  let c256_i32_1148 : BitVec 32 := 256#32
  let c0_i32_1147 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let c1_i32_1197 : BitVec 32 := 1#32
  let arg13 : BitVec 32 := Scf.iv v1741 c1_i32_1197 k1_t245
  let v1828 : Index := Scalar.indexCast arg13
  let c0_1207 : Index := 0#32
  ![v1828.toNat, 0]
def k1_off980 (i : grid1.Coords) (v552 : BitVec 32) (v557 : BitVec 32) (k1_t245 : Fin (k1_t245_loop i v552 v557).trips) : Fin 2 → Nat :=
  let c256_i32_1148 : BitVec 32 := 256#32
  let c0_i32_1147 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let c1_i32_1197 : BitVec 32 := 1#32
  let arg13 : BitVec 32 := Scf.iv v1741 c1_i32_1197 k1_t245
  let v1832 : Index := Scalar.indexCast arg13
  let c16_1208 : Index := 16#32
  ![v1832.toNat, 16]
def k1_off981 (i : grid1.Coords) (v552 : BitVec 32) (v557 : BitVec 32) (k1_t245 : Fin (k1_t245_loop i v552 v557).trips) : Fin 2 → Nat :=
  let c256_i32_1148 : BitVec 32 := 256#32
  let c0_i32_1147 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let c1_i32_1197 : BitVec 32 := 1#32
  let arg13 : BitVec 32 := Scf.iv v1741 c1_i32_1197 k1_t245
  let v1836 : Index := Scalar.indexCast arg13
  let c32_1209 : Index := 32#32
  ![v1836.toNat, 32]
def k1_off982 (i : grid1.Coords) (v552 : BitVec 32) (v557 : BitVec 32) (k1_t245 : Fin (k1_t245_loop i v552 v557).trips) : Fin 2 → Nat :=
  let c256_i32_1148 : BitVec 32 := 256#32
  let c0_i32_1147 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let c1_i32_1197 : BitVec 32 := 1#32
  let arg13 : BitVec 32 := Scf.iv v1741 c1_i32_1197 k1_t245
  let v1840 : Index := Scalar.indexCast arg13
  let c48_1210 : Index := 48#32
  ![v1840.toNat, 48]
@[reducible] def k1_t246_loop (i : grid1.Coords) (v552 : BitVec 32) (v557 : BitVec 32) : Scf.Loop 32 :=
  let c256_i32_1148 : BitVec 32 := 256#32
  let c0_i32_1147 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let c256_i32_1151 : BitVec 32 := 256#32
  let c0_i32_1150 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c768_i32_1149 : BitVec 32 := 768#32
  let v1742 : BitVec 32 := Scalar.subi v560 c768_i32_1149
  let v1743 : BitVec 32 := Scalar.maxsi c0_i32_1150 v1742
  let v1744 : BitVec 32 := Scalar.minsi c256_i32_1151 v1743
  let v1805 : BitVec 32 := Scalar.subi v1744 v1741
  let c1_i32_1196 : BitVec 32 := 1#32
  let v1807 : BitVec 32 := Scalar.divsi v1805 c1_i32_1196
  let v1808 : BitVec 32 := Scalar.muli v1807 c1_i32_1196
  let v1809 : BitVec 32 := Scalar.addi v1741 v1808
  let v1806 : BitVec 32 := Scalar.addi v1741 v1805
  let c1_i32_1198 : BitVec 32 := 1#32
  ⟨v1809, v1806, c1_i32_1198⟩
def k1_off983 (i : grid1.Coords) (v552 : BitVec 32) (v557 : BitVec 32) (k1_t246 : Fin (k1_t246_loop i v552 v557).trips) : Fin 2 → Nat :=
  let c256_i32_1148 : BitVec 32 := 256#32
  let c0_i32_1147 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let c256_i32_1151 : BitVec 32 := 256#32
  let c0_i32_1150 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c768_i32_1149 : BitVec 32 := 768#32
  let v1742 : BitVec 32 := Scalar.subi v560 c768_i32_1149
  let v1743 : BitVec 32 := Scalar.maxsi c0_i32_1150 v1742
  let v1744 : BitVec 32 := Scalar.minsi c256_i32_1151 v1743
  let v1805 : BitVec 32 := Scalar.subi v1744 v1741
  let c1_i32_1196 : BitVec 32 := 1#32
  let v1807 : BitVec 32 := Scalar.divsi v1805 c1_i32_1196
  let v1808 : BitVec 32 := Scalar.muli v1807 c1_i32_1196
  let v1809 : BitVec 32 := Scalar.addi v1741 v1808
  let c1_i32_1198 : BitVec 32 := 1#32
  let arg13 : BitVec 32 := Scf.iv v1809 c1_i32_1198 k1_t246
  let v1828 : Index := Scalar.indexCast arg13
  let c0_1207 : Index := 0#32
  ![v1828.toNat, 0]
def k1_off984 (i : grid1.Coords) (v552 : BitVec 32) (v557 : BitVec 32) (k1_t246 : Fin (k1_t246_loop i v552 v557).trips) : Fin 2 → Nat :=
  let c256_i32_1148 : BitVec 32 := 256#32
  let c0_i32_1147 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let c256_i32_1151 : BitVec 32 := 256#32
  let c0_i32_1150 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c768_i32_1149 : BitVec 32 := 768#32
  let v1742 : BitVec 32 := Scalar.subi v560 c768_i32_1149
  let v1743 : BitVec 32 := Scalar.maxsi c0_i32_1150 v1742
  let v1744 : BitVec 32 := Scalar.minsi c256_i32_1151 v1743
  let v1805 : BitVec 32 := Scalar.subi v1744 v1741
  let c1_i32_1196 : BitVec 32 := 1#32
  let v1807 : BitVec 32 := Scalar.divsi v1805 c1_i32_1196
  let v1808 : BitVec 32 := Scalar.muli v1807 c1_i32_1196
  let v1809 : BitVec 32 := Scalar.addi v1741 v1808
  let c1_i32_1198 : BitVec 32 := 1#32
  let arg13 : BitVec 32 := Scf.iv v1809 c1_i32_1198 k1_t246
  let v1832 : Index := Scalar.indexCast arg13
  let c16_1208 : Index := 16#32
  ![v1832.toNat, 16]
def k1_off985 (i : grid1.Coords) (v552 : BitVec 32) (v557 : BitVec 32) (k1_t246 : Fin (k1_t246_loop i v552 v557).trips) : Fin 2 → Nat :=
  let c256_i32_1148 : BitVec 32 := 256#32
  let c0_i32_1147 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let c256_i32_1151 : BitVec 32 := 256#32
  let c0_i32_1150 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c768_i32_1149 : BitVec 32 := 768#32
  let v1742 : BitVec 32 := Scalar.subi v560 c768_i32_1149
  let v1743 : BitVec 32 := Scalar.maxsi c0_i32_1150 v1742
  let v1744 : BitVec 32 := Scalar.minsi c256_i32_1151 v1743
  let v1805 : BitVec 32 := Scalar.subi v1744 v1741
  let c1_i32_1196 : BitVec 32 := 1#32
  let v1807 : BitVec 32 := Scalar.divsi v1805 c1_i32_1196
  let v1808 : BitVec 32 := Scalar.muli v1807 c1_i32_1196
  let v1809 : BitVec 32 := Scalar.addi v1741 v1808
  let c1_i32_1198 : BitVec 32 := 1#32
  let arg13 : BitVec 32 := Scf.iv v1809 c1_i32_1198 k1_t246
  let v1836 : Index := Scalar.indexCast arg13
  let c32_1209 : Index := 32#32
  ![v1836.toNat, 32]
def k1_off986 (i : grid1.Coords) (v552 : BitVec 32) (v557 : BitVec 32) (k1_t246 : Fin (k1_t246_loop i v552 v557).trips) : Fin 2 → Nat :=
  let c256_i32_1148 : BitVec 32 := 256#32
  let c0_i32_1147 : BitVec 32 := 0#32
  let c1024_i32_242 : BitVec 32 := 1024#32
  let c0_i32_241 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v553 : BitVec 32 := Scalar.subi v552 v3
  let v554 : BitVec 32 := Scalar.maxsi c0_i32_241 v553
  let v555 : BitVec 32 := Scalar.minsi c1024_i32_242 v554
  let c768_i32_1146 : BitVec 32 := 768#32
  let v1739 : BitVec 32 := Scalar.subi v555 c768_i32_1146
  let v1740 : BitVec 32 := Scalar.maxsi c0_i32_1147 v1739
  let v1741 : BitVec 32 := Scalar.minsi c256_i32_1148 v1740
  let c256_i32_1151 : BitVec 32 := 256#32
  let c0_i32_1150 : BitVec 32 := 0#32
  let c1024_i32_244 : BitVec 32 := 1024#32
  let c0_i32_243 : BitVec 32 := 0#32
  let v558 : BitVec 32 := Scalar.subi v557 v3
  let v559 : BitVec 32 := Scalar.maxsi c0_i32_243 v558
  let v560 : BitVec 32 := Scalar.minsi c1024_i32_244 v559
  let c768_i32_1149 : BitVec 32 := 768#32
  let v1742 : BitVec 32 := Scalar.subi v560 c768_i32_1149
  let v1743 : BitVec 32 := Scalar.maxsi c0_i32_1150 v1742
  let v1744 : BitVec 32 := Scalar.minsi c256_i32_1151 v1743
  let v1805 : BitVec 32 := Scalar.subi v1744 v1741
  let c1_i32_1196 : BitVec 32 := 1#32
  let v1807 : BitVec 32 := Scalar.divsi v1805 c1_i32_1196
  let v1808 : BitVec 32 := Scalar.muli v1807 c1_i32_1196
  let v1809 : BitVec 32 := Scalar.addi v1741 v1808
  let c1_i32_1198 : BitVec 32 := 1#32
  let arg13 : BitVec 32 := Scf.iv v1809 c1_i32_1198 k1_t246
  let v1840 : Index := Scalar.indexCast arg13
  let c48_1210 : Index := 48#32
  ![v1840.toNat, 48]

def k1_chk27_0 (i : grid1.Coords) (v552 : BitVec 32) (v557 : BitVec 32) : Prop :=
  (∀ (k1_h27 : k1_cond27 i v552 v557 = 1#1), (k1_t53_loop i v552 v557).OK) ∧
  (∀ k1_t53 : Fin (k1_t53_loop i v552 v557).trips, ∀ (k1_h27 : k1_cond27 i v552 v557 = 1#1), ∀ a, (k1_off210 i v552 v557 k1_t53) a + S1x16.size a ≤ S256x128.size a) ∧
  (∀ k1_t53 : Fin (k1_t53_loop i v552 v557).trips, ∀ (k1_h27 : k1_cond27 i v552 v557 = 1#1), ∀ a, (k1_off211 i v552 v557 k1_t53) a + S1x16.size a ≤ S256x128.size a) ∧
  (∀ k1_t53 : Fin (k1_t53_loop i v552 v557).trips, ∀ (k1_h27 : k1_cond27 i v552 v557 = 1#1), ∀ a, (k1_off212 i v552 v557 k1_t53) a + S1x16.size a ≤ S256x128.size a) ∧
  (∀ k1_t53 : Fin (k1_t53_loop i v552 v557).trips, ∀ (k1_h27 : k1_cond27 i v552 v557 = 1#1), ∀ a, (k1_off213 i v552 v557 k1_t53) a + S1x16.size a ≤ S256x128.size a) ∧
  (∀ (k1_h27 : k1_cond27 i v552 v557 = 1#1), (k1_t54_loop i v552 v557).OK) ∧
  (∀ k1_t54 : Fin (k1_t54_loop i v552 v557).trips, ∀ (k1_h27 : k1_cond27 i v552 v557 = 1#1), ∀ a, (k1_off214 i v552 v557 k1_t54) a + S1x16.size a ≤ S256x128.size a) ∧
  (∀ k1_t54 : Fin (k1_t54_loop i v552 v557).trips, ∀ (k1_h27 : k1_cond27 i v552 v557 = 1#1), ∀ a, (k1_off215 i v552 v557 k1_t54) a + S1x16.size a ≤ S256x128.size a) ∧
  (∀ k1_t54 : Fin (k1_t54_loop i v552 v557).trips, ∀ (k1_h27 : k1_cond27 i v552 v557 = 1#1), ∀ a, (k1_off216 i v552 v557 k1_t54) a + S1x16.size a ≤ S256x128.size a) ∧
  (∀ k1_t54 : Fin (k1_t54_loop i v552 v557).trips, ∀ (k1_h27 : k1_cond27 i v552 v557 = 1#1), ∀ a, (k1_off217 i v552 v557 k1_t54) a + S1x16.size a ≤ S256x128.size a) ∧
  (∀ (k1_h59 : k1_cond59 i v552 v557 = 1#1), (k1_t117_loop i v552 v557).OK) ∧
  (∀ k1_t117 : Fin (k1_t117_loop i v552 v557).trips, ∀ (k1_h59 : k1_cond59 i v552 v557 = 1#1), ∀ a, (k1_off467 i v552 v557 k1_t117) a + S1x16.size a ≤ S256x128.size a) ∧
  (∀ k1_t117 : Fin (k1_t117_loop i v552 v557).trips, ∀ (k1_h59 : k1_cond59 i v552 v557 = 1#1), ∀ a, (k1_off468 i v552 v557 k1_t117) a + S1x16.size a ≤ S256x128.size a) ∧
  (∀ k1_t117 : Fin (k1_t117_loop i v552 v557).trips, ∀ (k1_h59 : k1_cond59 i v552 v557 = 1#1), ∀ a, (k1_off469 i v552 v557 k1_t117) a + S1x16.size a ≤ S256x128.size a) ∧
  (∀ k1_t117 : Fin (k1_t117_loop i v552 v557).trips, ∀ (k1_h59 : k1_cond59 i v552 v557 = 1#1), ∀ a, (k1_off470 i v552 v557 k1_t117) a + S1x16.size a ≤ S256x128.size a) ∧
  (∀ (k1_h59 : k1_cond59 i v552 v557 = 1#1), (k1_t118_loop i v552 v557).OK) ∧
  (∀ k1_t118 : Fin (k1_t118_loop i v552 v557).trips, ∀ (k1_h59 : k1_cond59 i v552 v557 = 1#1), ∀ a, (k1_off471 i v552 v557 k1_t118) a + S1x16.size a ≤ S256x128.size a) ∧
  (∀ k1_t118 : Fin (k1_t118_loop i v552 v557).trips, ∀ (k1_h59 : k1_cond59 i v552 v557 = 1#1), ∀ a, (k1_off472 i v552 v557 k1_t118) a + S1x16.size a ≤ S256x128.size a) ∧
  (∀ k1_t118 : Fin (k1_t118_loop i v552 v557).trips, ∀ (k1_h59 : k1_cond59 i v552 v557 = 1#1), ∀ a, (k1_off473 i v552 v557 k1_t118) a + S1x16.size a ≤ S256x128.size a) ∧
  (∀ k1_t118 : Fin (k1_t118_loop i v552 v557).trips, ∀ (k1_h59 : k1_cond59 i v552 v557 = 1#1), ∀ a, (k1_off474 i v552 v557 k1_t118) a + S1x16.size a ≤ S256x128.size a) ∧
  (∀ (k1_h91 : k1_cond91 i v552 v557 = 1#1), (k1_t181_loop i v552 v557).OK) ∧
  (∀ k1_t181 : Fin (k1_t181_loop i v552 v557).trips, ∀ (k1_h91 : k1_cond91 i v552 v557 = 1#1), ∀ a, (k1_off723 i v552 v557 k1_t181) a + S1x16.size a ≤ S256x128.size a) ∧
  (∀ k1_t181 : Fin (k1_t181_loop i v552 v557).trips, ∀ (k1_h91 : k1_cond91 i v552 v557 = 1#1), ∀ a, (k1_off724 i v552 v557 k1_t181) a + S1x16.size a ≤ S256x128.size a) ∧
  (∀ k1_t181 : Fin (k1_t181_loop i v552 v557).trips, ∀ (k1_h91 : k1_cond91 i v552 v557 = 1#1), ∀ a, (k1_off725 i v552 v557 k1_t181) a + S1x16.size a ≤ S256x128.size a) ∧
  (∀ k1_t181 : Fin (k1_t181_loop i v552 v557).trips, ∀ (k1_h91 : k1_cond91 i v552 v557 = 1#1), ∀ a, (k1_off726 i v552 v557 k1_t181) a + S1x16.size a ≤ S256x128.size a) ∧
  (∀ (k1_h91 : k1_cond91 i v552 v557 = 1#1), (k1_t182_loop i v552 v557).OK) ∧
  (∀ k1_t182 : Fin (k1_t182_loop i v552 v557).trips, ∀ (k1_h91 : k1_cond91 i v552 v557 = 1#1), ∀ a, (k1_off727 i v552 v557 k1_t182) a + S1x16.size a ≤ S256x128.size a) ∧
  (∀ k1_t182 : Fin (k1_t182_loop i v552 v557).trips, ∀ (k1_h91 : k1_cond91 i v552 v557 = 1#1), ∀ a, (k1_off728 i v552 v557 k1_t182) a + S1x16.size a ≤ S256x128.size a) ∧
  (∀ k1_t182 : Fin (k1_t182_loop i v552 v557).trips, ∀ (k1_h91 : k1_cond91 i v552 v557 = 1#1), ∀ a, (k1_off729 i v552 v557 k1_t182) a + S1x16.size a ≤ S256x128.size a) ∧
  (∀ k1_t182 : Fin (k1_t182_loop i v552 v557).trips, ∀ (k1_h91 : k1_cond91 i v552 v557 = 1#1), ∀ a, (k1_off730 i v552 v557 k1_t182) a + S1x16.size a ≤ S256x128.size a) ∧
  (∀ (k1_h123 : k1_cond123 i v552 v557 = 1#1), (k1_t245_loop i v552 v557).OK) ∧
  (∀ k1_t245 : Fin (k1_t245_loop i v552 v557).trips, ∀ (k1_h123 : k1_cond123 i v552 v557 = 1#1), ∀ a, (k1_off979 i v552 v557 k1_t245) a + S1x16.size a ≤ S256x128.size a)
def k1_chk27_1 (i : grid1.Coords) (v552 : BitVec 32) (v557 : BitVec 32) : Prop :=
  (∀ k1_t245 : Fin (k1_t245_loop i v552 v557).trips, ∀ (k1_h123 : k1_cond123 i v552 v557 = 1#1), ∀ a, (k1_off980 i v552 v557 k1_t245) a + S1x16.size a ≤ S256x128.size a) ∧
  (∀ k1_t245 : Fin (k1_t245_loop i v552 v557).trips, ∀ (k1_h123 : k1_cond123 i v552 v557 = 1#1), ∀ a, (k1_off981 i v552 v557 k1_t245) a + S1x16.size a ≤ S256x128.size a) ∧
  (∀ k1_t245 : Fin (k1_t245_loop i v552 v557).trips, ∀ (k1_h123 : k1_cond123 i v552 v557 = 1#1), ∀ a, (k1_off982 i v552 v557 k1_t245) a + S1x16.size a ≤ S256x128.size a) ∧
  (∀ (k1_h123 : k1_cond123 i v552 v557 = 1#1), (k1_t246_loop i v552 v557).OK) ∧
  (∀ k1_t246 : Fin (k1_t246_loop i v552 v557).trips, ∀ (k1_h123 : k1_cond123 i v552 v557 = 1#1), ∀ a, (k1_off983 i v552 v557 k1_t246) a + S1x16.size a ≤ S256x128.size a) ∧
  (∀ k1_t246 : Fin (k1_t246_loop i v552 v557).trips, ∀ (k1_h123 : k1_cond123 i v552 v557 = 1#1), ∀ a, (k1_off984 i v552 v557 k1_t246) a + S1x16.size a ≤ S256x128.size a) ∧
  (∀ k1_t246 : Fin (k1_t246_loop i v552 v557).trips, ∀ (k1_h123 : k1_cond123 i v552 v557 = 1#1), ∀ a, (k1_off985 i v552 v557 k1_t246) a + S1x16.size a ≤ S256x128.size a) ∧
  (∀ k1_t246 : Fin (k1_t246_loop i v552 v557).trips, ∀ (k1_h123 : k1_cond123 i v552 v557 = 1#1), ∀ a, (k1_off986 i v552 v557 k1_t246) a + S1x16.size a ≤ S256x128.size a)
def k1_chk27 (i : grid1.Coords) (v552 : BitVec 32) (v557 : BitVec 32) : Prop :=
  k1_chk27_0 i v552 v557 ∧
  k1_chk27_1 i v552 v557
theorem k1_t53_ok : ∀ (i : grid1.Coords) (v552 : BitVec 32) (v557 : BitVec 32) (k1_hw27 : k1_chk27 i v552 v557), ∀ (k1_h27 : k1_cond27 i v552 v557 = 1#1), (k1_t53_loop i v552 v557).OK := fun i v552 v557 k1_hw27 k1_h27 => k1_hw27.1.1 k1_h27
theorem k1_off210_inb : ∀ (i : grid1.Coords) (v552 : BitVec 32) (v557 : BitVec 32) (k1_hw27 : k1_chk27 i v552 v557) (k1_t53 : Fin (k1_t53_loop i v552 v557).trips), ∀ (k1_h27 : k1_cond27 i v552 v557 = 1#1), ∀ a, (k1_off210 i v552 v557 k1_t53) a + S1x16.size a ≤ S256x128.size a := fun i v552 v557 k1_hw27 k1_t53 k1_h27 => k1_hw27.1.2.1 k1_t53 k1_h27
theorem k1_off211_inb : ∀ (i : grid1.Coords) (v552 : BitVec 32) (v557 : BitVec 32) (k1_hw27 : k1_chk27 i v552 v557) (k1_t53 : Fin (k1_t53_loop i v552 v557).trips), ∀ (k1_h27 : k1_cond27 i v552 v557 = 1#1), ∀ a, (k1_off211 i v552 v557 k1_t53) a + S1x16.size a ≤ S256x128.size a := fun i v552 v557 k1_hw27 k1_t53 k1_h27 => k1_hw27.1.2.2.1 k1_t53 k1_h27
theorem k1_off212_inb : ∀ (i : grid1.Coords) (v552 : BitVec 32) (v557 : BitVec 32) (k1_hw27 : k1_chk27 i v552 v557) (k1_t53 : Fin (k1_t53_loop i v552 v557).trips), ∀ (k1_h27 : k1_cond27 i v552 v557 = 1#1), ∀ a, (k1_off212 i v552 v557 k1_t53) a + S1x16.size a ≤ S256x128.size a := fun i v552 v557 k1_hw27 k1_t53 k1_h27 => k1_hw27.1.2.2.2.1 k1_t53 k1_h27
theorem k1_off213_inb : ∀ (i : grid1.Coords) (v552 : BitVec 32) (v557 : BitVec 32) (k1_hw27 : k1_chk27 i v552 v557) (k1_t53 : Fin (k1_t53_loop i v552 v557).trips), ∀ (k1_h27 : k1_cond27 i v552 v557 = 1#1), ∀ a, (k1_off213 i v552 v557 k1_t53) a + S1x16.size a ≤ S256x128.size a := fun i v552 v557 k1_hw27 k1_t53 k1_h27 => k1_hw27.1.2.2.2.2.1 k1_t53 k1_h27
theorem k1_t54_ok : ∀ (i : grid1.Coords) (v552 : BitVec 32) (v557 : BitVec 32) (k1_hw27 : k1_chk27 i v552 v557), ∀ (k1_h27 : k1_cond27 i v552 v557 = 1#1), (k1_t54_loop i v552 v557).OK := fun i v552 v557 k1_hw27 k1_h27 => k1_hw27.1.2.2.2.2.2.1 k1_h27
theorem k1_off214_inb : ∀ (i : grid1.Coords) (v552 : BitVec 32) (v557 : BitVec 32) (k1_hw27 : k1_chk27 i v552 v557) (k1_t54 : Fin (k1_t54_loop i v552 v557).trips), ∀ (k1_h27 : k1_cond27 i v552 v557 = 1#1), ∀ a, (k1_off214 i v552 v557 k1_t54) a + S1x16.size a ≤ S256x128.size a := fun i v552 v557 k1_hw27 k1_t54 k1_h27 => k1_hw27.1.2.2.2.2.2.2.1 k1_t54 k1_h27
theorem k1_off215_inb : ∀ (i : grid1.Coords) (v552 : BitVec 32) (v557 : BitVec 32) (k1_hw27 : k1_chk27 i v552 v557) (k1_t54 : Fin (k1_t54_loop i v552 v557).trips), ∀ (k1_h27 : k1_cond27 i v552 v557 = 1#1), ∀ a, (k1_off215 i v552 v557 k1_t54) a + S1x16.size a ≤ S256x128.size a := fun i v552 v557 k1_hw27 k1_t54 k1_h27 => k1_hw27.1.2.2.2.2.2.2.2.1 k1_t54 k1_h27
theorem k1_off216_inb : ∀ (i : grid1.Coords) (v552 : BitVec 32) (v557 : BitVec 32) (k1_hw27 : k1_chk27 i v552 v557) (k1_t54 : Fin (k1_t54_loop i v552 v557).trips), ∀ (k1_h27 : k1_cond27 i v552 v557 = 1#1), ∀ a, (k1_off216 i v552 v557 k1_t54) a + S1x16.size a ≤ S256x128.size a := fun i v552 v557 k1_hw27 k1_t54 k1_h27 => k1_hw27.1.2.2.2.2.2.2.2.2.1 k1_t54 k1_h27
theorem k1_off217_inb : ∀ (i : grid1.Coords) (v552 : BitVec 32) (v557 : BitVec 32) (k1_hw27 : k1_chk27 i v552 v557) (k1_t54 : Fin (k1_t54_loop i v552 v557).trips), ∀ (k1_h27 : k1_cond27 i v552 v557 = 1#1), ∀ a, (k1_off217 i v552 v557 k1_t54) a + S1x16.size a ≤ S256x128.size a := fun i v552 v557 k1_hw27 k1_t54 k1_h27 => k1_hw27.1.2.2.2.2.2.2.2.2.2.1 k1_t54 k1_h27
theorem k1_t117_ok : ∀ (i : grid1.Coords) (v552 : BitVec 32) (v557 : BitVec 32) (k1_hw27 : k1_chk27 i v552 v557), ∀ (k1_h59 : k1_cond59 i v552 v557 = 1#1), (k1_t117_loop i v552 v557).OK := fun i v552 v557 k1_hw27 k1_h59 => k1_hw27.1.2.2.2.2.2.2.2.2.2.2.1 k1_h59
theorem k1_off467_inb : ∀ (i : grid1.Coords) (v552 : BitVec 32) (v557 : BitVec 32) (k1_hw27 : k1_chk27 i v552 v557) (k1_t117 : Fin (k1_t117_loop i v552 v557).trips), ∀ (k1_h59 : k1_cond59 i v552 v557 = 1#1), ∀ a, (k1_off467 i v552 v557 k1_t117) a + S1x16.size a ≤ S256x128.size a := fun i v552 v557 k1_hw27 k1_t117 k1_h59 => k1_hw27.1.2.2.2.2.2.2.2.2.2.2.2.1 k1_t117 k1_h59
theorem k1_off468_inb : ∀ (i : grid1.Coords) (v552 : BitVec 32) (v557 : BitVec 32) (k1_hw27 : k1_chk27 i v552 v557) (k1_t117 : Fin (k1_t117_loop i v552 v557).trips), ∀ (k1_h59 : k1_cond59 i v552 v557 = 1#1), ∀ a, (k1_off468 i v552 v557 k1_t117) a + S1x16.size a ≤ S256x128.size a := fun i v552 v557 k1_hw27 k1_t117 k1_h59 => k1_hw27.1.2.2.2.2.2.2.2.2.2.2.2.2.1 k1_t117 k1_h59
theorem k1_off469_inb : ∀ (i : grid1.Coords) (v552 : BitVec 32) (v557 : BitVec 32) (k1_hw27 : k1_chk27 i v552 v557) (k1_t117 : Fin (k1_t117_loop i v552 v557).trips), ∀ (k1_h59 : k1_cond59 i v552 v557 = 1#1), ∀ a, (k1_off469 i v552 v557 k1_t117) a + S1x16.size a ≤ S256x128.size a := fun i v552 v557 k1_hw27 k1_t117 k1_h59 => k1_hw27.1.2.2.2.2.2.2.2.2.2.2.2.2.2.1 k1_t117 k1_h59
theorem k1_off470_inb : ∀ (i : grid1.Coords) (v552 : BitVec 32) (v557 : BitVec 32) (k1_hw27 : k1_chk27 i v552 v557) (k1_t117 : Fin (k1_t117_loop i v552 v557).trips), ∀ (k1_h59 : k1_cond59 i v552 v557 = 1#1), ∀ a, (k1_off470 i v552 v557 k1_t117) a + S1x16.size a ≤ S256x128.size a := fun i v552 v557 k1_hw27 k1_t117 k1_h59 => k1_hw27.1.2.2.2.2.2.2.2.2.2.2.2.2.2.2.1 k1_t117 k1_h59
theorem k1_t118_ok : ∀ (i : grid1.Coords) (v552 : BitVec 32) (v557 : BitVec 32) (k1_hw27 : k1_chk27 i v552 v557), ∀ (k1_h59 : k1_cond59 i v552 v557 = 1#1), (k1_t118_loop i v552 v557).OK := fun i v552 v557 k1_hw27 k1_h59 => k1_hw27.1.2.2.2.2.2.2.2.2.2.2.2.2.2.2.2.1 k1_h59
theorem k1_off471_inb : ∀ (i : grid1.Coords) (v552 : BitVec 32) (v557 : BitVec 32) (k1_hw27 : k1_chk27 i v552 v557) (k1_t118 : Fin (k1_t118_loop i v552 v557).trips), ∀ (k1_h59 : k1_cond59 i v552 v557 = 1#1), ∀ a, (k1_off471 i v552 v557 k1_t118) a + S1x16.size a ≤ S256x128.size a := fun i v552 v557 k1_hw27 k1_t118 k1_h59 => k1_hw27.1.2.2.2.2.2.2.2.2.2.2.2.2.2.2.2.2.1 k1_t118 k1_h59
theorem k1_off472_inb : ∀ (i : grid1.Coords) (v552 : BitVec 32) (v557 : BitVec 32) (k1_hw27 : k1_chk27 i v552 v557) (k1_t118 : Fin (k1_t118_loop i v552 v557).trips), ∀ (k1_h59 : k1_cond59 i v552 v557 = 1#1), ∀ a, (k1_off472 i v552 v557 k1_t118) a + S1x16.size a ≤ S256x128.size a := fun i v552 v557 k1_hw27 k1_t118 k1_h59 => k1_hw27.1.2.2.2.2.2.2.2.2.2.2.2.2.2.2.2.2.2.1 k1_t118 k1_h59
theorem k1_off473_inb : ∀ (i : grid1.Coords) (v552 : BitVec 32) (v557 : BitVec 32) (k1_hw27 : k1_chk27 i v552 v557) (k1_t118 : Fin (k1_t118_loop i v552 v557).trips), ∀ (k1_h59 : k1_cond59 i v552 v557 = 1#1), ∀ a, (k1_off473 i v552 v557 k1_t118) a + S1x16.size a ≤ S256x128.size a := fun i v552 v557 k1_hw27 k1_t118 k1_h59 => k1_hw27.1.2.2.2.2.2.2.2.2.2.2.2.2.2.2.2.2.2.2.1 k1_t118 k1_h59
theorem k1_off474_inb : ∀ (i : grid1.Coords) (v552 : BitVec 32) (v557 : BitVec 32) (k1_hw27 : k1_chk27 i v552 v557) (k1_t118 : Fin (k1_t118_loop i v552 v557).trips), ∀ (k1_h59 : k1_cond59 i v552 v557 = 1#1), ∀ a, (k1_off474 i v552 v557 k1_t118) a + S1x16.size a ≤ S256x128.size a := fun i v552 v557 k1_hw27 k1_t118 k1_h59 => k1_hw27.1.2.2.2.2.2.2.2.2.2.2.2.2.2.2.2.2.2.2.2.1 k1_t118 k1_h59
theorem k1_t181_ok : ∀ (i : grid1.Coords) (v552 : BitVec 32) (v557 : BitVec 32) (k1_hw27 : k1_chk27 i v552 v557), ∀ (k1_h91 : k1_cond91 i v552 v557 = 1#1), (k1_t181_loop i v552 v557).OK := fun i v552 v557 k1_hw27 k1_h91 => k1_hw27.1.2.2.2.2.2.2.2.2.2.2.2.2.2.2.2.2.2.2.2.2.1 k1_h91
theorem k1_off723_inb : ∀ (i : grid1.Coords) (v552 : BitVec 32) (v557 : BitVec 32) (k1_hw27 : k1_chk27 i v552 v557) (k1_t181 : Fin (k1_t181_loop i v552 v557).trips), ∀ (k1_h91 : k1_cond91 i v552 v557 = 1#1), ∀ a, (k1_off723 i v552 v557 k1_t181) a + S1x16.size a ≤ S256x128.size a := fun i v552 v557 k1_hw27 k1_t181 k1_h91 => k1_hw27.1.2.2.2.2.2.2.2.2.2.2.2.2.2.2.2.2.2.2.2.2.2.1 k1_t181 k1_h91
theorem k1_off724_inb : ∀ (i : grid1.Coords) (v552 : BitVec 32) (v557 : BitVec 32) (k1_hw27 : k1_chk27 i v552 v557) (k1_t181 : Fin (k1_t181_loop i v552 v557).trips), ∀ (k1_h91 : k1_cond91 i v552 v557 = 1#1), ∀ a, (k1_off724 i v552 v557 k1_t181) a + S1x16.size a ≤ S256x128.size a := fun i v552 v557 k1_hw27 k1_t181 k1_h91 => k1_hw27.1.2.2.2.2.2.2.2.2.2.2.2.2.2.2.2.2.2.2.2.2.2.2.1 k1_t181 k1_h91
theorem k1_off725_inb : ∀ (i : grid1.Coords) (v552 : BitVec 32) (v557 : BitVec 32) (k1_hw27 : k1_chk27 i v552 v557) (k1_t181 : Fin (k1_t181_loop i v552 v557).trips), ∀ (k1_h91 : k1_cond91 i v552 v557 = 1#1), ∀ a, (k1_off725 i v552 v557 k1_t181) a + S1x16.size a ≤ S256x128.size a := fun i v552 v557 k1_hw27 k1_t181 k1_h91 => k1_hw27.1.2.2.2.2.2.2.2.2.2.2.2.2.2.2.2.2.2.2.2.2.2.2.2.1 k1_t181 k1_h91
theorem k1_off726_inb : ∀ (i : grid1.Coords) (v552 : BitVec 32) (v557 : BitVec 32) (k1_hw27 : k1_chk27 i v552 v557) (k1_t181 : Fin (k1_t181_loop i v552 v557).trips), ∀ (k1_h91 : k1_cond91 i v552 v557 = 1#1), ∀ a, (k1_off726 i v552 v557 k1_t181) a + S1x16.size a ≤ S256x128.size a := fun i v552 v557 k1_hw27 k1_t181 k1_h91 => k1_hw27.1.2.2.2.2.2.2.2.2.2.2.2.2.2.2.2.2.2.2.2.2.2.2.2.2.1 k1_t181 k1_h91
theorem k1_t182_ok : ∀ (i : grid1.Coords) (v552 : BitVec 32) (v557 : BitVec 32) (k1_hw27 : k1_chk27 i v552 v557), ∀ (k1_h91 : k1_cond91 i v552 v557 = 1#1), (k1_t182_loop i v552 v557).OK := fun i v552 v557 k1_hw27 k1_h91 => k1_hw27.1.2.2.2.2.2.2.2.2.2.2.2.2.2.2.2.2.2.2.2.2.2.2.2.2.2.1 k1_h91
theorem k1_off727_inb : ∀ (i : grid1.Coords) (v552 : BitVec 32) (v557 : BitVec 32) (k1_hw27 : k1_chk27 i v552 v557) (k1_t182 : Fin (k1_t182_loop i v552 v557).trips), ∀ (k1_h91 : k1_cond91 i v552 v557 = 1#1), ∀ a, (k1_off727 i v552 v557 k1_t182) a + S1x16.size a ≤ S256x128.size a := fun i v552 v557 k1_hw27 k1_t182 k1_h91 => k1_hw27.1.2.2.2.2.2.2.2.2.2.2.2.2.2.2.2.2.2.2.2.2.2.2.2.2.2.2.1 k1_t182 k1_h91
theorem k1_off728_inb : ∀ (i : grid1.Coords) (v552 : BitVec 32) (v557 : BitVec 32) (k1_hw27 : k1_chk27 i v552 v557) (k1_t182 : Fin (k1_t182_loop i v552 v557).trips), ∀ (k1_h91 : k1_cond91 i v552 v557 = 1#1), ∀ a, (k1_off728 i v552 v557 k1_t182) a + S1x16.size a ≤ S256x128.size a := fun i v552 v557 k1_hw27 k1_t182 k1_h91 => k1_hw27.1.2.2.2.2.2.2.2.2.2.2.2.2.2.2.2.2.2.2.2.2.2.2.2.2.2.2.2.1 k1_t182 k1_h91
theorem k1_off729_inb : ∀ (i : grid1.Coords) (v552 : BitVec 32) (v557 : BitVec 32) (k1_hw27 : k1_chk27 i v552 v557) (k1_t182 : Fin (k1_t182_loop i v552 v557).trips), ∀ (k1_h91 : k1_cond91 i v552 v557 = 1#1), ∀ a, (k1_off729 i v552 v557 k1_t182) a + S1x16.size a ≤ S256x128.size a := fun i v552 v557 k1_hw27 k1_t182 k1_h91 => k1_hw27.1.2.2.2.2.2.2.2.2.2.2.2.2.2.2.2.2.2.2.2.2.2.2.2.2.2.2.2.2.1 k1_t182 k1_h91
theorem k1_off730_inb : ∀ (i : grid1.Coords) (v552 : BitVec 32) (v557 : BitVec 32) (k1_hw27 : k1_chk27 i v552 v557) (k1_t182 : Fin (k1_t182_loop i v552 v557).trips), ∀ (k1_h91 : k1_cond91 i v552 v557 = 1#1), ∀ a, (k1_off730 i v552 v557 k1_t182) a + S1x16.size a ≤ S256x128.size a := fun i v552 v557 k1_hw27 k1_t182 k1_h91 => k1_hw27.1.2.2.2.2.2.2.2.2.2.2.2.2.2.2.2.2.2.2.2.2.2.2.2.2.2.2.2.2.2.1 k1_t182 k1_h91
theorem k1_t245_ok : ∀ (i : grid1.Coords) (v552 : BitVec 32) (v557 : BitVec 32) (k1_hw27 : k1_chk27 i v552 v557), ∀ (k1_h123 : k1_cond123 i v552 v557 = 1#1), (k1_t245_loop i v552 v557).OK := fun i v552 v557 k1_hw27 k1_h123 => k1_hw27.1.2.2.2.2.2.2.2.2.2.2.2.2.2.2.2.2.2.2.2.2.2.2.2.2.2.2.2.2.2.2.1 k1_h123
theorem k1_off979_inb : ∀ (i : grid1.Coords) (v552 : BitVec 32) (v557 : BitVec 32) (k1_hw27 : k1_chk27 i v552 v557) (k1_t245 : Fin (k1_t245_loop i v552 v557).trips), ∀ (k1_h123 : k1_cond123 i v552 v557 = 1#1), ∀ a, (k1_off979 i v552 v557 k1_t245) a + S1x16.size a ≤ S256x128.size a := fun i v552 v557 k1_hw27 k1_t245 k1_h123 => k1_hw27.1.2.2.2.2.2.2.2.2.2.2.2.2.2.2.2.2.2.2.2.2.2.2.2.2.2.2.2.2.2.2.2 k1_t245 k1_h123
theorem k1_off980_inb : ∀ (i : grid1.Coords) (v552 : BitVec 32) (v557 : BitVec 32) (k1_hw27 : k1_chk27 i v552 v557) (k1_t245 : Fin (k1_t245_loop i v552 v557).trips), ∀ (k1_h123 : k1_cond123 i v552 v557 = 1#1), ∀ a, (k1_off980 i v552 v557 k1_t245) a + S1x16.size a ≤ S256x128.size a := fun i v552 v557 k1_hw27 k1_t245 k1_h123 => k1_hw27.2.1 k1_t245 k1_h123
theorem k1_off981_inb : ∀ (i : grid1.Coords) (v552 : BitVec 32) (v557 : BitVec 32) (k1_hw27 : k1_chk27 i v552 v557) (k1_t245 : Fin (k1_t245_loop i v552 v557).trips), ∀ (k1_h123 : k1_cond123 i v552 v557 = 1#1), ∀ a, (k1_off981 i v552 v557 k1_t245) a + S1x16.size a ≤ S256x128.size a := fun i v552 v557 k1_hw27 k1_t245 k1_h123 => k1_hw27.2.2.1 k1_t245 k1_h123
theorem k1_off982_inb : ∀ (i : grid1.Coords) (v552 : BitVec 32) (v557 : BitVec 32) (k1_hw27 : k1_chk27 i v552 v557) (k1_t245 : Fin (k1_t245_loop i v552 v557).trips), ∀ (k1_h123 : k1_cond123 i v552 v557 = 1#1), ∀ a, (k1_off982 i v552 v557 k1_t245) a + S1x16.size a ≤ S256x128.size a := fun i v552 v557 k1_hw27 k1_t245 k1_h123 => k1_hw27.2.2.2.1 k1_t245 k1_h123
theorem k1_t246_ok : ∀ (i : grid1.Coords) (v552 : BitVec 32) (v557 : BitVec 32) (k1_hw27 : k1_chk27 i v552 v557), ∀ (k1_h123 : k1_cond123 i v552 v557 = 1#1), (k1_t246_loop i v552 v557).OK := fun i v552 v557 k1_hw27 k1_h123 => k1_hw27.2.2.2.2.1 k1_h123
theorem k1_off983_inb : ∀ (i : grid1.Coords) (v552 : BitVec 32) (v557 : BitVec 32) (k1_hw27 : k1_chk27 i v552 v557) (k1_t246 : Fin (k1_t246_loop i v552 v557).trips), ∀ (k1_h123 : k1_cond123 i v552 v557 = 1#1), ∀ a, (k1_off983 i v552 v557 k1_t246) a + S1x16.size a ≤ S256x128.size a := fun i v552 v557 k1_hw27 k1_t246 k1_h123 => k1_hw27.2.2.2.2.2.1 k1_t246 k1_h123
theorem k1_off984_inb : ∀ (i : grid1.Coords) (v552 : BitVec 32) (v557 : BitVec 32) (k1_hw27 : k1_chk27 i v552 v557) (k1_t246 : Fin (k1_t246_loop i v552 v557).trips), ∀ (k1_h123 : k1_cond123 i v552 v557 = 1#1), ∀ a, (k1_off984 i v552 v557 k1_t246) a + S1x16.size a ≤ S256x128.size a := fun i v552 v557 k1_hw27 k1_t246 k1_h123 => k1_hw27.2.2.2.2.2.2.1 k1_t246 k1_h123
theorem k1_off985_inb : ∀ (i : grid1.Coords) (v552 : BitVec 32) (v557 : BitVec 32) (k1_hw27 : k1_chk27 i v552 v557) (k1_t246 : Fin (k1_t246_loop i v552 v557).trips), ∀ (k1_h123 : k1_cond123 i v552 v557 = 1#1), ∀ a, (k1_off985 i v552 v557 k1_t246) a + S1x16.size a ≤ S256x128.size a := fun i v552 v557 k1_hw27 k1_t246 k1_h123 => k1_hw27.2.2.2.2.2.2.2.1 k1_t246 k1_h123
theorem k1_off986_inb : ∀ (i : grid1.Coords) (v552 : BitVec 32) (v557 : BitVec 32) (k1_hw27 : k1_chk27 i v552 v557) (k1_t246 : Fin (k1_t246_loop i v552 v557).trips), ∀ (k1_h123 : k1_cond123 i v552 v557 = 1#1), ∀ a, (k1_off986 i v552 v557 k1_t246) a + S1x16.size a ≤ S256x128.size a := fun i v552 v557 k1_hw27 k1_t246 k1_h123 => k1_hw27.2.2.2.2.2.2.2.2 k1_t246 k1_h123

@[reducible] def k1_t247_loop (i : grid1.Coords) (v562 : BitVec 32) (v568 : BitVec 32) : Scf.Loop 32 :=
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let c256_i32_1158 : BitVec 32 := 256#32
  let c0_i32_1157 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c768_i32_1156 : BitVec 32 := 768#32
  let v1751 : BitVec 32 := Scalar.subi v572 c768_i32_1156
  let v1752 : BitVec 32 := Scalar.maxsi c0_i32_1157 v1751
  let v1753 : BitVec 32 := Scalar.minsi c256_i32_1158 v1752
  let v1805 : BitVec 32 := Scalar.subi v1753 v1750
  let c1_i32_1196 : BitVec 32 := 1#32
  let v1807 : BitVec 32 := Scalar.divsi v1805 c1_i32_1196
  let v1808 : BitVec 32 := Scalar.muli v1807 c1_i32_1196
  let v1809 : BitVec 32 := Scalar.addi v1750 v1808
  let c1_i32_1197 : BitVec 32 := 1#32
  ⟨v1750, v1809, c1_i32_1197⟩
def k1_cond124 (i : grid1.Coords) (v562 : BitVec 32) (v568 : BitVec 32) : BitVec 1 :=
  let c256_i32_1158 : BitVec 32 := 256#32
  let c0_i32_1157 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v570 : BitVec 32 := Scalar.subi v569 v3
  let v571 : BitVec 32 := Scalar.maxsi c0_i32_249 v570
  let v572 : BitVec 32 := Scalar.minsi c1024_i32_250 v571
  let c768_i32_1156 : BitVec 32 := 768#32
  let v1751 : BitVec 32 := Scalar.subi v572 c768_i32_1156
  let v1752 : BitVec 32 := Scalar.maxsi c0_i32_1157 v1751
  let v1753 : BitVec 32 := Scalar.minsi c256_i32_1158 v1752
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let v1754 : BitVec 1 := Scalar.cmpi .sgt v1753 v1750
  let v1755 : BitVec 32 := Scalar.extui v1754
  let c0_i32_1159 : BitVec 32 := 0#32
  let v1756 : BitVec 1 := Scalar.cmpi .ne v1755 c0_i32_1159
  v1756

def k1_off987 (i : grid1.Coords) (v562 : BitVec 32) (v568 : BitVec 32) (k1_t247 : Fin (k1_t247_loop i v562 v568).trips) : Fin 2 → Nat :=
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let c1_i32_1197 : BitVec 32 := 1#32
  let arg13 : BitVec 32 := Scf.iv v1750 c1_i32_1197 k1_t247
  let v1828 : Index := Scalar.indexCast arg13
  let c64 : Index := 64#32
  ![v1828.toNat, 64]
def k1_off988 (i : grid1.Coords) (v562 : BitVec 32) (v568 : BitVec 32) (k1_t247 : Fin (k1_t247_loop i v562 v568).trips) : Fin 2 → Nat :=
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let c1_i32_1197 : BitVec 32 := 1#32
  let arg13 : BitVec 32 := Scf.iv v1750 c1_i32_1197 k1_t247
  let v1832 : Index := Scalar.indexCast arg13
  let c80 : Index := 80#32
  ![v1832.toNat, 80]
def k1_off989 (i : grid1.Coords) (v562 : BitVec 32) (v568 : BitVec 32) (k1_t247 : Fin (k1_t247_loop i v562 v568).trips) : Fin 2 → Nat :=
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let c1_i32_1197 : BitVec 32 := 1#32
  let arg13 : BitVec 32 := Scf.iv v1750 c1_i32_1197 k1_t247
  let v1836 : Index := Scalar.indexCast arg13
  let c96 : Index := 96#32
  ![v1836.toNat, 96]
def k1_off990 (i : grid1.Coords) (v562 : BitVec 32) (v568 : BitVec 32) (k1_t247 : Fin (k1_t247_loop i v562 v568).trips) : Fin 2 → Nat :=
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let c1_i32_1197 : BitVec 32 := 1#32
  let arg13 : BitVec 32 := Scf.iv v1750 c1_i32_1197 k1_t247
  let v1840 : Index := Scalar.indexCast arg13
  let c112 : Index := 112#32
  ![v1840.toNat, 112]
@[reducible] def k1_t248_loop (i : grid1.Coords) (v562 : BitVec 32) (v568 : BitVec 32) : Scf.Loop 32 :=
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let c256_i32_1158 : BitVec 32 := 256#32
  let c0_i32_1157 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c768_i32_1156 : BitVec 32 := 768#32
  let v1751 : BitVec 32 := Scalar.subi v572 c768_i32_1156
  let v1752 : BitVec 32 := Scalar.maxsi c0_i32_1157 v1751
  let v1753 : BitVec 32 := Scalar.minsi c256_i32_1158 v1752
  let v1805 : BitVec 32 := Scalar.subi v1753 v1750
  let c1_i32_1196 : BitVec 32 := 1#32
  let v1807 : BitVec 32 := Scalar.divsi v1805 c1_i32_1196
  let v1808 : BitVec 32 := Scalar.muli v1807 c1_i32_1196
  let v1809 : BitVec 32 := Scalar.addi v1750 v1808
  let v1806 : BitVec 32 := Scalar.addi v1750 v1805
  let c1_i32_1198 : BitVec 32 := 1#32
  ⟨v1809, v1806, c1_i32_1198⟩
def k1_off991 (i : grid1.Coords) (v562 : BitVec 32) (v568 : BitVec 32) (k1_t248 : Fin (k1_t248_loop i v562 v568).trips) : Fin 2 → Nat :=
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let c256_i32_1158 : BitVec 32 := 256#32
  let c0_i32_1157 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c768_i32_1156 : BitVec 32 := 768#32
  let v1751 : BitVec 32 := Scalar.subi v572 c768_i32_1156
  let v1752 : BitVec 32 := Scalar.maxsi c0_i32_1157 v1751
  let v1753 : BitVec 32 := Scalar.minsi c256_i32_1158 v1752
  let v1805 : BitVec 32 := Scalar.subi v1753 v1750
  let c1_i32_1196 : BitVec 32 := 1#32
  let v1807 : BitVec 32 := Scalar.divsi v1805 c1_i32_1196
  let v1808 : BitVec 32 := Scalar.muli v1807 c1_i32_1196
  let v1809 : BitVec 32 := Scalar.addi v1750 v1808
  let c1_i32_1198 : BitVec 32 := 1#32
  let arg13 : BitVec 32 := Scf.iv v1809 c1_i32_1198 k1_t248
  let v1828 : Index := Scalar.indexCast arg13
  let c64 : Index := 64#32
  ![v1828.toNat, 64]
def k1_off992 (i : grid1.Coords) (v562 : BitVec 32) (v568 : BitVec 32) (k1_t248 : Fin (k1_t248_loop i v562 v568).trips) : Fin 2 → Nat :=
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let c256_i32_1158 : BitVec 32 := 256#32
  let c0_i32_1157 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c768_i32_1156 : BitVec 32 := 768#32
  let v1751 : BitVec 32 := Scalar.subi v572 c768_i32_1156
  let v1752 : BitVec 32 := Scalar.maxsi c0_i32_1157 v1751
  let v1753 : BitVec 32 := Scalar.minsi c256_i32_1158 v1752
  let v1805 : BitVec 32 := Scalar.subi v1753 v1750
  let c1_i32_1196 : BitVec 32 := 1#32
  let v1807 : BitVec 32 := Scalar.divsi v1805 c1_i32_1196
  let v1808 : BitVec 32 := Scalar.muli v1807 c1_i32_1196
  let v1809 : BitVec 32 := Scalar.addi v1750 v1808
  let c1_i32_1198 : BitVec 32 := 1#32
  let arg13 : BitVec 32 := Scf.iv v1809 c1_i32_1198 k1_t248
  let v1832 : Index := Scalar.indexCast arg13
  let c80 : Index := 80#32
  ![v1832.toNat, 80]
def k1_off993 (i : grid1.Coords) (v562 : BitVec 32) (v568 : BitVec 32) (k1_t248 : Fin (k1_t248_loop i v562 v568).trips) : Fin 2 → Nat :=
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let c256_i32_1158 : BitVec 32 := 256#32
  let c0_i32_1157 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c768_i32_1156 : BitVec 32 := 768#32
  let v1751 : BitVec 32 := Scalar.subi v572 c768_i32_1156
  let v1752 : BitVec 32 := Scalar.maxsi c0_i32_1157 v1751
  let v1753 : BitVec 32 := Scalar.minsi c256_i32_1158 v1752
  let v1805 : BitVec 32 := Scalar.subi v1753 v1750
  let c1_i32_1196 : BitVec 32 := 1#32
  let v1807 : BitVec 32 := Scalar.divsi v1805 c1_i32_1196
  let v1808 : BitVec 32 := Scalar.muli v1807 c1_i32_1196
  let v1809 : BitVec 32 := Scalar.addi v1750 v1808
  let c1_i32_1198 : BitVec 32 := 1#32
  let arg13 : BitVec 32 := Scf.iv v1809 c1_i32_1198 k1_t248
  let v1836 : Index := Scalar.indexCast arg13
  let c96 : Index := 96#32
  ![v1836.toNat, 96]
def k1_off994 (i : grid1.Coords) (v562 : BitVec 32) (v568 : BitVec 32) (k1_t248 : Fin (k1_t248_loop i v562 v568).trips) : Fin 2 → Nat :=
  let c256_i32_1155 : BitVec 32 := 256#32
  let c0_i32_1154 : BitVec 32 := 0#32
  let c1024_i32_247 : BitVec 32 := 1024#32
  let c0_i32_246 : BitVec 32 := 0#32
  let c65536_i32_245 : BitVec 32 := 65536#32
  let v563 : BitVec 32 := Scalar.subi v562 c65536_i32_245
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v564 : BitVec 32 := Scalar.subi v563 v3
  let v565 : BitVec 32 := Scalar.maxsi c0_i32_246 v564
  let v566 : BitVec 32 := Scalar.minsi c1024_i32_247 v565
  let c768_i32_1153 : BitVec 32 := 768#32
  let v1748 : BitVec 32 := Scalar.subi v566 c768_i32_1153
  let v1749 : BitVec 32 := Scalar.maxsi c0_i32_1154 v1748
  let v1750 : BitVec 32 := Scalar.minsi c256_i32_1155 v1749
  let c256_i32_1158 : BitVec 32 := 256#32
  let c0_i32_1157 : BitVec 32 := 0#32
  let c1024_i32_250 : BitVec 32 := 1024#32
  let c0_i32_249 : BitVec 32 := 0#32
  let c65536_i32_248 : BitVec 32 := 65536#32
  let v569 : BitVec 32 := Scalar.subi v568 c65536_i32_248
  let v570 : BitVec 32 := Scalar.subi v569 v3
  let v571 : BitVec 32 := Scalar.maxsi c0_i32_249 v570
  let v572 : BitVec 32 := Scalar.minsi c1024_i32_250 v571
  let c768_i32_1156 : BitVec 32 := 768#32
  let v1751 : BitVec 32 := Scalar.subi v572 c768_i32_1156
  let v1752 : BitVec 32 := Scalar.maxsi c0_i32_1157 v1751
  let v1753 : BitVec 32 := Scalar.minsi c256_i32_1158 v1752
  let v1805 : BitVec 32 := Scalar.subi v1753 v1750
  let c1_i32_1196 : BitVec 32 := 1#32
  let v1807 : BitVec 32 := Scalar.divsi v1805 c1_i32_1196
  let v1808 : BitVec 32 := Scalar.muli v1807 c1_i32_1196
  let v1809 : BitVec 32 := Scalar.addi v1750 v1808
  let c1_i32_1198 : BitVec 32 := 1#32
  let arg13 : BitVec 32 := Scf.iv v1809 c1_i32_1198 k1_t248
  let v1840 : Index := Scalar.indexCast arg13
  let c112 : Index := 112#32
  ![v1840.toNat, 112]

def k1_chk28_0 (i : grid1.Coords) (v562 : BitVec 32) (v568 : BitVec 32) : Prop :=
  (∀ (k1_h28 : k1_cond28 i v562 v568 = 1#1), (k1_t55_loop i v562 v568).OK) ∧
  (∀ k1_t55 : Fin (k1_t55_loop i v562 v568).trips, ∀ (k1_h28 : k1_cond28 i v562 v568 = 1#1), ∀ a, (k1_off218 i v562 v568 k1_t55) a + S1x16.size a ≤ S256x128.size a) ∧
  (∀ k1_t55 : Fin (k1_t55_loop i v562 v568).trips, ∀ (k1_h28 : k1_cond28 i v562 v568 = 1#1), ∀ a, (k1_off219 i v562 v568 k1_t55) a + S1x16.size a ≤ S256x128.size a) ∧
  (∀ k1_t55 : Fin (k1_t55_loop i v562 v568).trips, ∀ (k1_h28 : k1_cond28 i v562 v568 = 1#1), ∀ a, (k1_off220 i v562 v568 k1_t55) a + S1x16.size a ≤ S256x128.size a) ∧
  (∀ k1_t55 : Fin (k1_t55_loop i v562 v568).trips, ∀ (k1_h28 : k1_cond28 i v562 v568 = 1#1), ∀ a, (k1_off221 i v562 v568 k1_t55) a + S1x16.size a ≤ S256x128.size a) ∧
  (∀ (k1_h28 : k1_cond28 i v562 v568 = 1#1), (k1_t56_loop i v562 v568).OK) ∧
  (∀ k1_t56 : Fin (k1_t56_loop i v562 v568).trips, ∀ (k1_h28 : k1_cond28 i v562 v568 = 1#1), ∀ a, (k1_off222 i v562 v568 k1_t56) a + S1x16.size a ≤ S256x128.size a) ∧
  (∀ k1_t56 : Fin (k1_t56_loop i v562 v568).trips, ∀ (k1_h28 : k1_cond28 i v562 v568 = 1#1), ∀ a, (k1_off223 i v562 v568 k1_t56) a + S1x16.size a ≤ S256x128.size a) ∧
  (∀ k1_t56 : Fin (k1_t56_loop i v562 v568).trips, ∀ (k1_h28 : k1_cond28 i v562 v568 = 1#1), ∀ a, (k1_off224 i v562 v568 k1_t56) a + S1x16.size a ≤ S256x128.size a) ∧
  (∀ k1_t56 : Fin (k1_t56_loop i v562 v568).trips, ∀ (k1_h28 : k1_cond28 i v562 v568 = 1#1), ∀ a, (k1_off225 i v562 v568 k1_t56) a + S1x16.size a ≤ S256x128.size a) ∧
  (∀ (k1_h60 : k1_cond60 i v562 v568 = 1#1), (k1_t119_loop i v562 v568).OK) ∧
  (∀ k1_t119 : Fin (k1_t119_loop i v562 v568).trips, ∀ (k1_h60 : k1_cond60 i v562 v568 = 1#1), ∀ a, (k1_off475 i v562 v568 k1_t119) a + S1x16.size a ≤ S256x128.size a) ∧
  (∀ k1_t119 : Fin (k1_t119_loop i v562 v568).trips, ∀ (k1_h60 : k1_cond60 i v562 v568 = 1#1), ∀ a, (k1_off476 i v562 v568 k1_t119) a + S1x16.size a ≤ S256x128.size a) ∧
  (∀ k1_t119 : Fin (k1_t119_loop i v562 v568).trips, ∀ (k1_h60 : k1_cond60 i v562 v568 = 1#1), ∀ a, (k1_off477 i v562 v568 k1_t119) a + S1x16.size a ≤ S256x128.size a) ∧
  (∀ k1_t119 : Fin (k1_t119_loop i v562 v568).trips, ∀ (k1_h60 : k1_cond60 i v562 v568 = 1#1), ∀ a, (k1_off478 i v562 v568 k1_t119) a + S1x16.size a ≤ S256x128.size a) ∧
  (∀ (k1_h60 : k1_cond60 i v562 v568 = 1#1), (k1_t120_loop i v562 v568).OK) ∧
  (∀ k1_t120 : Fin (k1_t120_loop i v562 v568).trips, ∀ (k1_h60 : k1_cond60 i v562 v568 = 1#1), ∀ a, (k1_off479 i v562 v568 k1_t120) a + S1x16.size a ≤ S256x128.size a) ∧
  (∀ k1_t120 : Fin (k1_t120_loop i v562 v568).trips, ∀ (k1_h60 : k1_cond60 i v562 v568 = 1#1), ∀ a, (k1_off480 i v562 v568 k1_t120) a + S1x16.size a ≤ S256x128.size a) ∧
  (∀ k1_t120 : Fin (k1_t120_loop i v562 v568).trips, ∀ (k1_h60 : k1_cond60 i v562 v568 = 1#1), ∀ a, (k1_off481 i v562 v568 k1_t120) a + S1x16.size a ≤ S256x128.size a) ∧
  (∀ k1_t120 : Fin (k1_t120_loop i v562 v568).trips, ∀ (k1_h60 : k1_cond60 i v562 v568 = 1#1), ∀ a, (k1_off482 i v562 v568 k1_t120) a + S1x16.size a ≤ S256x128.size a) ∧
  (∀ (k1_h92 : k1_cond92 i v562 v568 = 1#1), (k1_t183_loop i v562 v568).OK) ∧
  (∀ k1_t183 : Fin (k1_t183_loop i v562 v568).trips, ∀ (k1_h92 : k1_cond92 i v562 v568 = 1#1), ∀ a, (k1_off731 i v562 v568 k1_t183) a + S1x16.size a ≤ S256x128.size a) ∧
  (∀ k1_t183 : Fin (k1_t183_loop i v562 v568).trips, ∀ (k1_h92 : k1_cond92 i v562 v568 = 1#1), ∀ a, (k1_off732 i v562 v568 k1_t183) a + S1x16.size a ≤ S256x128.size a) ∧
  (∀ k1_t183 : Fin (k1_t183_loop i v562 v568).trips, ∀ (k1_h92 : k1_cond92 i v562 v568 = 1#1), ∀ a, (k1_off733 i v562 v568 k1_t183) a + S1x16.size a ≤ S256x128.size a) ∧
  (∀ k1_t183 : Fin (k1_t183_loop i v562 v568).trips, ∀ (k1_h92 : k1_cond92 i v562 v568 = 1#1), ∀ a, (k1_off734 i v562 v568 k1_t183) a + S1x16.size a ≤ S256x128.size a) ∧
  (∀ (k1_h92 : k1_cond92 i v562 v568 = 1#1), (k1_t184_loop i v562 v568).OK) ∧
  (∀ k1_t184 : Fin (k1_t184_loop i v562 v568).trips, ∀ (k1_h92 : k1_cond92 i v562 v568 = 1#1), ∀ a, (k1_off735 i v562 v568 k1_t184) a + S1x16.size a ≤ S256x128.size a) ∧
  (∀ k1_t184 : Fin (k1_t184_loop i v562 v568).trips, ∀ (k1_h92 : k1_cond92 i v562 v568 = 1#1), ∀ a, (k1_off736 i v562 v568 k1_t184) a + S1x16.size a ≤ S256x128.size a) ∧
  (∀ k1_t184 : Fin (k1_t184_loop i v562 v568).trips, ∀ (k1_h92 : k1_cond92 i v562 v568 = 1#1), ∀ a, (k1_off737 i v562 v568 k1_t184) a + S1x16.size a ≤ S256x128.size a) ∧
  (∀ k1_t184 : Fin (k1_t184_loop i v562 v568).trips, ∀ (k1_h92 : k1_cond92 i v562 v568 = 1#1), ∀ a, (k1_off738 i v562 v568 k1_t184) a + S1x16.size a ≤ S256x128.size a) ∧
  (∀ (k1_h124 : k1_cond124 i v562 v568 = 1#1), (k1_t247_loop i v562 v568).OK) ∧
  (∀ k1_t247 : Fin (k1_t247_loop i v562 v568).trips, ∀ (k1_h124 : k1_cond124 i v562 v568 = 1#1), ∀ a, (k1_off987 i v562 v568 k1_t247) a + S1x16.size a ≤ S256x128.size a)
def k1_chk28_1 (i : grid1.Coords) (v562 : BitVec 32) (v568 : BitVec 32) : Prop :=
  (∀ k1_t247 : Fin (k1_t247_loop i v562 v568).trips, ∀ (k1_h124 : k1_cond124 i v562 v568 = 1#1), ∀ a, (k1_off988 i v562 v568 k1_t247) a + S1x16.size a ≤ S256x128.size a) ∧
  (∀ k1_t247 : Fin (k1_t247_loop i v562 v568).trips, ∀ (k1_h124 : k1_cond124 i v562 v568 = 1#1), ∀ a, (k1_off989 i v562 v568 k1_t247) a + S1x16.size a ≤ S256x128.size a) ∧
  (∀ k1_t247 : Fin (k1_t247_loop i v562 v568).trips, ∀ (k1_h124 : k1_cond124 i v562 v568 = 1#1), ∀ a, (k1_off990 i v562 v568 k1_t247) a + S1x16.size a ≤ S256x128.size a) ∧
  (∀ (k1_h124 : k1_cond124 i v562 v568 = 1#1), (k1_t248_loop i v562 v568).OK) ∧
  (∀ k1_t248 : Fin (k1_t248_loop i v562 v568).trips, ∀ (k1_h124 : k1_cond124 i v562 v568 = 1#1), ∀ a, (k1_off991 i v562 v568 k1_t248) a + S1x16.size a ≤ S256x128.size a) ∧
  (∀ k1_t248 : Fin (k1_t248_loop i v562 v568).trips, ∀ (k1_h124 : k1_cond124 i v562 v568 = 1#1), ∀ a, (k1_off992 i v562 v568 k1_t248) a + S1x16.size a ≤ S256x128.size a) ∧
  (∀ k1_t248 : Fin (k1_t248_loop i v562 v568).trips, ∀ (k1_h124 : k1_cond124 i v562 v568 = 1#1), ∀ a, (k1_off993 i v562 v568 k1_t248) a + S1x16.size a ≤ S256x128.size a) ∧
  (∀ k1_t248 : Fin (k1_t248_loop i v562 v568).trips, ∀ (k1_h124 : k1_cond124 i v562 v568 = 1#1), ∀ a, (k1_off994 i v562 v568 k1_t248) a + S1x16.size a ≤ S256x128.size a)
def k1_chk28 (i : grid1.Coords) (v562 : BitVec 32) (v568 : BitVec 32) : Prop :=
  k1_chk28_0 i v562 v568 ∧
  k1_chk28_1 i v562 v568
theorem k1_t55_ok : ∀ (i : grid1.Coords) (v562 : BitVec 32) (v568 : BitVec 32) (k1_hw28 : k1_chk28 i v562 v568), ∀ (k1_h28 : k1_cond28 i v562 v568 = 1#1), (k1_t55_loop i v562 v568).OK := fun i v562 v568 k1_hw28 k1_h28 => k1_hw28.1.1 k1_h28
theorem k1_off218_inb : ∀ (i : grid1.Coords) (v562 : BitVec 32) (v568 : BitVec 32) (k1_hw28 : k1_chk28 i v562 v568) (k1_t55 : Fin (k1_t55_loop i v562 v568).trips), ∀ (k1_h28 : k1_cond28 i v562 v568 = 1#1), ∀ a, (k1_off218 i v562 v568 k1_t55) a + S1x16.size a ≤ S256x128.size a := fun i v562 v568 k1_hw28 k1_t55 k1_h28 => k1_hw28.1.2.1 k1_t55 k1_h28
theorem k1_off219_inb : ∀ (i : grid1.Coords) (v562 : BitVec 32) (v568 : BitVec 32) (k1_hw28 : k1_chk28 i v562 v568) (k1_t55 : Fin (k1_t55_loop i v562 v568).trips), ∀ (k1_h28 : k1_cond28 i v562 v568 = 1#1), ∀ a, (k1_off219 i v562 v568 k1_t55) a + S1x16.size a ≤ S256x128.size a := fun i v562 v568 k1_hw28 k1_t55 k1_h28 => k1_hw28.1.2.2.1 k1_t55 k1_h28
theorem k1_off220_inb : ∀ (i : grid1.Coords) (v562 : BitVec 32) (v568 : BitVec 32) (k1_hw28 : k1_chk28 i v562 v568) (k1_t55 : Fin (k1_t55_loop i v562 v568).trips), ∀ (k1_h28 : k1_cond28 i v562 v568 = 1#1), ∀ a, (k1_off220 i v562 v568 k1_t55) a + S1x16.size a ≤ S256x128.size a := fun i v562 v568 k1_hw28 k1_t55 k1_h28 => k1_hw28.1.2.2.2.1 k1_t55 k1_h28
theorem k1_off221_inb : ∀ (i : grid1.Coords) (v562 : BitVec 32) (v568 : BitVec 32) (k1_hw28 : k1_chk28 i v562 v568) (k1_t55 : Fin (k1_t55_loop i v562 v568).trips), ∀ (k1_h28 : k1_cond28 i v562 v568 = 1#1), ∀ a, (k1_off221 i v562 v568 k1_t55) a + S1x16.size a ≤ S256x128.size a := fun i v562 v568 k1_hw28 k1_t55 k1_h28 => k1_hw28.1.2.2.2.2.1 k1_t55 k1_h28
theorem k1_t56_ok : ∀ (i : grid1.Coords) (v562 : BitVec 32) (v568 : BitVec 32) (k1_hw28 : k1_chk28 i v562 v568), ∀ (k1_h28 : k1_cond28 i v562 v568 = 1#1), (k1_t56_loop i v562 v568).OK := fun i v562 v568 k1_hw28 k1_h28 => k1_hw28.1.2.2.2.2.2.1 k1_h28
theorem k1_off222_inb : ∀ (i : grid1.Coords) (v562 : BitVec 32) (v568 : BitVec 32) (k1_hw28 : k1_chk28 i v562 v568) (k1_t56 : Fin (k1_t56_loop i v562 v568).trips), ∀ (k1_h28 : k1_cond28 i v562 v568 = 1#1), ∀ a, (k1_off222 i v562 v568 k1_t56) a + S1x16.size a ≤ S256x128.size a := fun i v562 v568 k1_hw28 k1_t56 k1_h28 => k1_hw28.1.2.2.2.2.2.2.1 k1_t56 k1_h28
theorem k1_off223_inb : ∀ (i : grid1.Coords) (v562 : BitVec 32) (v568 : BitVec 32) (k1_hw28 : k1_chk28 i v562 v568) (k1_t56 : Fin (k1_t56_loop i v562 v568).trips), ∀ (k1_h28 : k1_cond28 i v562 v568 = 1#1), ∀ a, (k1_off223 i v562 v568 k1_t56) a + S1x16.size a ≤ S256x128.size a := fun i v562 v568 k1_hw28 k1_t56 k1_h28 => k1_hw28.1.2.2.2.2.2.2.2.1 k1_t56 k1_h28
theorem k1_off224_inb : ∀ (i : grid1.Coords) (v562 : BitVec 32) (v568 : BitVec 32) (k1_hw28 : k1_chk28 i v562 v568) (k1_t56 : Fin (k1_t56_loop i v562 v568).trips), ∀ (k1_h28 : k1_cond28 i v562 v568 = 1#1), ∀ a, (k1_off224 i v562 v568 k1_t56) a + S1x16.size a ≤ S256x128.size a := fun i v562 v568 k1_hw28 k1_t56 k1_h28 => k1_hw28.1.2.2.2.2.2.2.2.2.1 k1_t56 k1_h28
theorem k1_off225_inb : ∀ (i : grid1.Coords) (v562 : BitVec 32) (v568 : BitVec 32) (k1_hw28 : k1_chk28 i v562 v568) (k1_t56 : Fin (k1_t56_loop i v562 v568).trips), ∀ (k1_h28 : k1_cond28 i v562 v568 = 1#1), ∀ a, (k1_off225 i v562 v568 k1_t56) a + S1x16.size a ≤ S256x128.size a := fun i v562 v568 k1_hw28 k1_t56 k1_h28 => k1_hw28.1.2.2.2.2.2.2.2.2.2.1 k1_t56 k1_h28
theorem k1_t119_ok : ∀ (i : grid1.Coords) (v562 : BitVec 32) (v568 : BitVec 32) (k1_hw28 : k1_chk28 i v562 v568), ∀ (k1_h60 : k1_cond60 i v562 v568 = 1#1), (k1_t119_loop i v562 v568).OK := fun i v562 v568 k1_hw28 k1_h60 => k1_hw28.1.2.2.2.2.2.2.2.2.2.2.1 k1_h60
theorem k1_off475_inb : ∀ (i : grid1.Coords) (v562 : BitVec 32) (v568 : BitVec 32) (k1_hw28 : k1_chk28 i v562 v568) (k1_t119 : Fin (k1_t119_loop i v562 v568).trips), ∀ (k1_h60 : k1_cond60 i v562 v568 = 1#1), ∀ a, (k1_off475 i v562 v568 k1_t119) a + S1x16.size a ≤ S256x128.size a := fun i v562 v568 k1_hw28 k1_t119 k1_h60 => k1_hw28.1.2.2.2.2.2.2.2.2.2.2.2.1 k1_t119 k1_h60
theorem k1_off476_inb : ∀ (i : grid1.Coords) (v562 : BitVec 32) (v568 : BitVec 32) (k1_hw28 : k1_chk28 i v562 v568) (k1_t119 : Fin (k1_t119_loop i v562 v568).trips), ∀ (k1_h60 : k1_cond60 i v562 v568 = 1#1), ∀ a, (k1_off476 i v562 v568 k1_t119) a + S1x16.size a ≤ S256x128.size a := fun i v562 v568 k1_hw28 k1_t119 k1_h60 => k1_hw28.1.2.2.2.2.2.2.2.2.2.2.2.2.1 k1_t119 k1_h60
theorem k1_off477_inb : ∀ (i : grid1.Coords) (v562 : BitVec 32) (v568 : BitVec 32) (k1_hw28 : k1_chk28 i v562 v568) (k1_t119 : Fin (k1_t119_loop i v562 v568).trips), ∀ (k1_h60 : k1_cond60 i v562 v568 = 1#1), ∀ a, (k1_off477 i v562 v568 k1_t119) a + S1x16.size a ≤ S256x128.size a := fun i v562 v568 k1_hw28 k1_t119 k1_h60 => k1_hw28.1.2.2.2.2.2.2.2.2.2.2.2.2.2.1 k1_t119 k1_h60
theorem k1_off478_inb : ∀ (i : grid1.Coords) (v562 : BitVec 32) (v568 : BitVec 32) (k1_hw28 : k1_chk28 i v562 v568) (k1_t119 : Fin (k1_t119_loop i v562 v568).trips), ∀ (k1_h60 : k1_cond60 i v562 v568 = 1#1), ∀ a, (k1_off478 i v562 v568 k1_t119) a + S1x16.size a ≤ S256x128.size a := fun i v562 v568 k1_hw28 k1_t119 k1_h60 => k1_hw28.1.2.2.2.2.2.2.2.2.2.2.2.2.2.2.1 k1_t119 k1_h60
theorem k1_t120_ok : ∀ (i : grid1.Coords) (v562 : BitVec 32) (v568 : BitVec 32) (k1_hw28 : k1_chk28 i v562 v568), ∀ (k1_h60 : k1_cond60 i v562 v568 = 1#1), (k1_t120_loop i v562 v568).OK := fun i v562 v568 k1_hw28 k1_h60 => k1_hw28.1.2.2.2.2.2.2.2.2.2.2.2.2.2.2.2.1 k1_h60
theorem k1_off479_inb : ∀ (i : grid1.Coords) (v562 : BitVec 32) (v568 : BitVec 32) (k1_hw28 : k1_chk28 i v562 v568) (k1_t120 : Fin (k1_t120_loop i v562 v568).trips), ∀ (k1_h60 : k1_cond60 i v562 v568 = 1#1), ∀ a, (k1_off479 i v562 v568 k1_t120) a + S1x16.size a ≤ S256x128.size a := fun i v562 v568 k1_hw28 k1_t120 k1_h60 => k1_hw28.1.2.2.2.2.2.2.2.2.2.2.2.2.2.2.2.2.1 k1_t120 k1_h60
theorem k1_off480_inb : ∀ (i : grid1.Coords) (v562 : BitVec 32) (v568 : BitVec 32) (k1_hw28 : k1_chk28 i v562 v568) (k1_t120 : Fin (k1_t120_loop i v562 v568).trips), ∀ (k1_h60 : k1_cond60 i v562 v568 = 1#1), ∀ a, (k1_off480 i v562 v568 k1_t120) a + S1x16.size a ≤ S256x128.size a := fun i v562 v568 k1_hw28 k1_t120 k1_h60 => k1_hw28.1.2.2.2.2.2.2.2.2.2.2.2.2.2.2.2.2.2.1 k1_t120 k1_h60
theorem k1_off481_inb : ∀ (i : grid1.Coords) (v562 : BitVec 32) (v568 : BitVec 32) (k1_hw28 : k1_chk28 i v562 v568) (k1_t120 : Fin (k1_t120_loop i v562 v568).trips), ∀ (k1_h60 : k1_cond60 i v562 v568 = 1#1), ∀ a, (k1_off481 i v562 v568 k1_t120) a + S1x16.size a ≤ S256x128.size a := fun i v562 v568 k1_hw28 k1_t120 k1_h60 => k1_hw28.1.2.2.2.2.2.2.2.2.2.2.2.2.2.2.2.2.2.2.1 k1_t120 k1_h60
theorem k1_off482_inb : ∀ (i : grid1.Coords) (v562 : BitVec 32) (v568 : BitVec 32) (k1_hw28 : k1_chk28 i v562 v568) (k1_t120 : Fin (k1_t120_loop i v562 v568).trips), ∀ (k1_h60 : k1_cond60 i v562 v568 = 1#1), ∀ a, (k1_off482 i v562 v568 k1_t120) a + S1x16.size a ≤ S256x128.size a := fun i v562 v568 k1_hw28 k1_t120 k1_h60 => k1_hw28.1.2.2.2.2.2.2.2.2.2.2.2.2.2.2.2.2.2.2.2.1 k1_t120 k1_h60
theorem k1_t183_ok : ∀ (i : grid1.Coords) (v562 : BitVec 32) (v568 : BitVec 32) (k1_hw28 : k1_chk28 i v562 v568), ∀ (k1_h92 : k1_cond92 i v562 v568 = 1#1), (k1_t183_loop i v562 v568).OK := fun i v562 v568 k1_hw28 k1_h92 => k1_hw28.1.2.2.2.2.2.2.2.2.2.2.2.2.2.2.2.2.2.2.2.2.1 k1_h92
theorem k1_off731_inb : ∀ (i : grid1.Coords) (v562 : BitVec 32) (v568 : BitVec 32) (k1_hw28 : k1_chk28 i v562 v568) (k1_t183 : Fin (k1_t183_loop i v562 v568).trips), ∀ (k1_h92 : k1_cond92 i v562 v568 = 1#1), ∀ a, (k1_off731 i v562 v568 k1_t183) a + S1x16.size a ≤ S256x128.size a := fun i v562 v568 k1_hw28 k1_t183 k1_h92 => k1_hw28.1.2.2.2.2.2.2.2.2.2.2.2.2.2.2.2.2.2.2.2.2.2.1 k1_t183 k1_h92
theorem k1_off732_inb : ∀ (i : grid1.Coords) (v562 : BitVec 32) (v568 : BitVec 32) (k1_hw28 : k1_chk28 i v562 v568) (k1_t183 : Fin (k1_t183_loop i v562 v568).trips), ∀ (k1_h92 : k1_cond92 i v562 v568 = 1#1), ∀ a, (k1_off732 i v562 v568 k1_t183) a + S1x16.size a ≤ S256x128.size a := fun i v562 v568 k1_hw28 k1_t183 k1_h92 => k1_hw28.1.2.2.2.2.2.2.2.2.2.2.2.2.2.2.2.2.2.2.2.2.2.2.1 k1_t183 k1_h92
theorem k1_off733_inb : ∀ (i : grid1.Coords) (v562 : BitVec 32) (v568 : BitVec 32) (k1_hw28 : k1_chk28 i v562 v568) (k1_t183 : Fin (k1_t183_loop i v562 v568).trips), ∀ (k1_h92 : k1_cond92 i v562 v568 = 1#1), ∀ a, (k1_off733 i v562 v568 k1_t183) a + S1x16.size a ≤ S256x128.size a := fun i v562 v568 k1_hw28 k1_t183 k1_h92 => k1_hw28.1.2.2.2.2.2.2.2.2.2.2.2.2.2.2.2.2.2.2.2.2.2.2.2.1 k1_t183 k1_h92
theorem k1_off734_inb : ∀ (i : grid1.Coords) (v562 : BitVec 32) (v568 : BitVec 32) (k1_hw28 : k1_chk28 i v562 v568) (k1_t183 : Fin (k1_t183_loop i v562 v568).trips), ∀ (k1_h92 : k1_cond92 i v562 v568 = 1#1), ∀ a, (k1_off734 i v562 v568 k1_t183) a + S1x16.size a ≤ S256x128.size a := fun i v562 v568 k1_hw28 k1_t183 k1_h92 => k1_hw28.1.2.2.2.2.2.2.2.2.2.2.2.2.2.2.2.2.2.2.2.2.2.2.2.2.1 k1_t183 k1_h92
theorem k1_t184_ok : ∀ (i : grid1.Coords) (v562 : BitVec 32) (v568 : BitVec 32) (k1_hw28 : k1_chk28 i v562 v568), ∀ (k1_h92 : k1_cond92 i v562 v568 = 1#1), (k1_t184_loop i v562 v568).OK := fun i v562 v568 k1_hw28 k1_h92 => k1_hw28.1.2.2.2.2.2.2.2.2.2.2.2.2.2.2.2.2.2.2.2.2.2.2.2.2.2.1 k1_h92
theorem k1_off735_inb : ∀ (i : grid1.Coords) (v562 : BitVec 32) (v568 : BitVec 32) (k1_hw28 : k1_chk28 i v562 v568) (k1_t184 : Fin (k1_t184_loop i v562 v568).trips), ∀ (k1_h92 : k1_cond92 i v562 v568 = 1#1), ∀ a, (k1_off735 i v562 v568 k1_t184) a + S1x16.size a ≤ S256x128.size a := fun i v562 v568 k1_hw28 k1_t184 k1_h92 => k1_hw28.1.2.2.2.2.2.2.2.2.2.2.2.2.2.2.2.2.2.2.2.2.2.2.2.2.2.2.1 k1_t184 k1_h92
theorem k1_off736_inb : ∀ (i : grid1.Coords) (v562 : BitVec 32) (v568 : BitVec 32) (k1_hw28 : k1_chk28 i v562 v568) (k1_t184 : Fin (k1_t184_loop i v562 v568).trips), ∀ (k1_h92 : k1_cond92 i v562 v568 = 1#1), ∀ a, (k1_off736 i v562 v568 k1_t184) a + S1x16.size a ≤ S256x128.size a := fun i v562 v568 k1_hw28 k1_t184 k1_h92 => k1_hw28.1.2.2.2.2.2.2.2.2.2.2.2.2.2.2.2.2.2.2.2.2.2.2.2.2.2.2.2.1 k1_t184 k1_h92
theorem k1_off737_inb : ∀ (i : grid1.Coords) (v562 : BitVec 32) (v568 : BitVec 32) (k1_hw28 : k1_chk28 i v562 v568) (k1_t184 : Fin (k1_t184_loop i v562 v568).trips), ∀ (k1_h92 : k1_cond92 i v562 v568 = 1#1), ∀ a, (k1_off737 i v562 v568 k1_t184) a + S1x16.size a ≤ S256x128.size a := fun i v562 v568 k1_hw28 k1_t184 k1_h92 => k1_hw28.1.2.2.2.2.2.2.2.2.2.2.2.2.2.2.2.2.2.2.2.2.2.2.2.2.2.2.2.2.1 k1_t184 k1_h92
theorem k1_off738_inb : ∀ (i : grid1.Coords) (v562 : BitVec 32) (v568 : BitVec 32) (k1_hw28 : k1_chk28 i v562 v568) (k1_t184 : Fin (k1_t184_loop i v562 v568).trips), ∀ (k1_h92 : k1_cond92 i v562 v568 = 1#1), ∀ a, (k1_off738 i v562 v568 k1_t184) a + S1x16.size a ≤ S256x128.size a := fun i v562 v568 k1_hw28 k1_t184 k1_h92 => k1_hw28.1.2.2.2.2.2.2.2.2.2.2.2.2.2.2.2.2.2.2.2.2.2.2.2.2.2.2.2.2.2.1 k1_t184 k1_h92
theorem k1_t247_ok : ∀ (i : grid1.Coords) (v562 : BitVec 32) (v568 : BitVec 32) (k1_hw28 : k1_chk28 i v562 v568), ∀ (k1_h124 : k1_cond124 i v562 v568 = 1#1), (k1_t247_loop i v562 v568).OK := fun i v562 v568 k1_hw28 k1_h124 => k1_hw28.1.2.2.2.2.2.2.2.2.2.2.2.2.2.2.2.2.2.2.2.2.2.2.2.2.2.2.2.2.2.2.1 k1_h124
theorem k1_off987_inb : ∀ (i : grid1.Coords) (v562 : BitVec 32) (v568 : BitVec 32) (k1_hw28 : k1_chk28 i v562 v568) (k1_t247 : Fin (k1_t247_loop i v562 v568).trips), ∀ (k1_h124 : k1_cond124 i v562 v568 = 1#1), ∀ a, (k1_off987 i v562 v568 k1_t247) a + S1x16.size a ≤ S256x128.size a := fun i v562 v568 k1_hw28 k1_t247 k1_h124 => k1_hw28.1.2.2.2.2.2.2.2.2.2.2.2.2.2.2.2.2.2.2.2.2.2.2.2.2.2.2.2.2.2.2.2 k1_t247 k1_h124
theorem k1_off988_inb : ∀ (i : grid1.Coords) (v562 : BitVec 32) (v568 : BitVec 32) (k1_hw28 : k1_chk28 i v562 v568) (k1_t247 : Fin (k1_t247_loop i v562 v568).trips), ∀ (k1_h124 : k1_cond124 i v562 v568 = 1#1), ∀ a, (k1_off988 i v562 v568 k1_t247) a + S1x16.size a ≤ S256x128.size a := fun i v562 v568 k1_hw28 k1_t247 k1_h124 => k1_hw28.2.1 k1_t247 k1_h124
theorem k1_off989_inb : ∀ (i : grid1.Coords) (v562 : BitVec 32) (v568 : BitVec 32) (k1_hw28 : k1_chk28 i v562 v568) (k1_t247 : Fin (k1_t247_loop i v562 v568).trips), ∀ (k1_h124 : k1_cond124 i v562 v568 = 1#1), ∀ a, (k1_off989 i v562 v568 k1_t247) a + S1x16.size a ≤ S256x128.size a := fun i v562 v568 k1_hw28 k1_t247 k1_h124 => k1_hw28.2.2.1 k1_t247 k1_h124
theorem k1_off990_inb : ∀ (i : grid1.Coords) (v562 : BitVec 32) (v568 : BitVec 32) (k1_hw28 : k1_chk28 i v562 v568) (k1_t247 : Fin (k1_t247_loop i v562 v568).trips), ∀ (k1_h124 : k1_cond124 i v562 v568 = 1#1), ∀ a, (k1_off990 i v562 v568 k1_t247) a + S1x16.size a ≤ S256x128.size a := fun i v562 v568 k1_hw28 k1_t247 k1_h124 => k1_hw28.2.2.2.1 k1_t247 k1_h124
theorem k1_t248_ok : ∀ (i : grid1.Coords) (v562 : BitVec 32) (v568 : BitVec 32) (k1_hw28 : k1_chk28 i v562 v568), ∀ (k1_h124 : k1_cond124 i v562 v568 = 1#1), (k1_t248_loop i v562 v568).OK := fun i v562 v568 k1_hw28 k1_h124 => k1_hw28.2.2.2.2.1 k1_h124
theorem k1_off991_inb : ∀ (i : grid1.Coords) (v562 : BitVec 32) (v568 : BitVec 32) (k1_hw28 : k1_chk28 i v562 v568) (k1_t248 : Fin (k1_t248_loop i v562 v568).trips), ∀ (k1_h124 : k1_cond124 i v562 v568 = 1#1), ∀ a, (k1_off991 i v562 v568 k1_t248) a + S1x16.size a ≤ S256x128.size a := fun i v562 v568 k1_hw28 k1_t248 k1_h124 => k1_hw28.2.2.2.2.2.1 k1_t248 k1_h124
theorem k1_off992_inb : ∀ (i : grid1.Coords) (v562 : BitVec 32) (v568 : BitVec 32) (k1_hw28 : k1_chk28 i v562 v568) (k1_t248 : Fin (k1_t248_loop i v562 v568).trips), ∀ (k1_h124 : k1_cond124 i v562 v568 = 1#1), ∀ a, (k1_off992 i v562 v568 k1_t248) a + S1x16.size a ≤ S256x128.size a := fun i v562 v568 k1_hw28 k1_t248 k1_h124 => k1_hw28.2.2.2.2.2.2.1 k1_t248 k1_h124
theorem k1_off993_inb : ∀ (i : grid1.Coords) (v562 : BitVec 32) (v568 : BitVec 32) (k1_hw28 : k1_chk28 i v562 v568) (k1_t248 : Fin (k1_t248_loop i v562 v568).trips), ∀ (k1_h124 : k1_cond124 i v562 v568 = 1#1), ∀ a, (k1_off993 i v562 v568 k1_t248) a + S1x16.size a ≤ S256x128.size a := fun i v562 v568 k1_hw28 k1_t248 k1_h124 => k1_hw28.2.2.2.2.2.2.2.1 k1_t248 k1_h124
theorem k1_off994_inb : ∀ (i : grid1.Coords) (v562 : BitVec 32) (v568 : BitVec 32) (k1_hw28 : k1_chk28 i v562 v568) (k1_t248 : Fin (k1_t248_loop i v562 v568).trips), ∀ (k1_h124 : k1_cond124 i v562 v568 = 1#1), ∀ a, (k1_off994 i v562 v568 k1_t248) a + S1x16.size a ≤ S256x128.size a := fun i v562 v568 k1_hw28 k1_t248 k1_h124 => k1_hw28.2.2.2.2.2.2.2.2 k1_t248 k1_h124

@[reducible] def k1_t249_loop (i : grid1.Coords) (v574 : BitVec 32) (v579 : BitVec 32) : Scf.Loop 32 :=
  let c256_i32_1162 : BitVec 32 := 256#32
  let c0_i32_1161 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let c256_i32_1165 : BitVec 32 := 256#32
  let c0_i32_1164 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c768_i32_1163 : BitVec 32 := 768#32
  let v1760 : BitVec 32 := Scalar.subi v582 c768_i32_1163
  let v1761 : BitVec 32 := Scalar.maxsi c0_i32_1164 v1760
  let v1762 : BitVec 32 := Scalar.minsi c256_i32_1165 v1761
  let v1805 : BitVec 32 := Scalar.subi v1762 v1759
  let c1_i32_1196 : BitVec 32 := 1#32
  let v1807 : BitVec 32 := Scalar.divsi v1805 c1_i32_1196
  let v1808 : BitVec 32 := Scalar.muli v1807 c1_i32_1196
  let v1809 : BitVec 32 := Scalar.addi v1759 v1808
  let c1_i32_1197 : BitVec 32 := 1#32
  ⟨v1759, v1809, c1_i32_1197⟩
def k1_cond125 (i : grid1.Coords) (v574 : BitVec 32) (v579 : BitVec 32) : BitVec 1 :=
  let c256_i32_1165 : BitVec 32 := 256#32
  let c0_i32_1164 : BitVec 32 := 0#32
  let c1024_i32_254 : BitVec 32 := 1024#32
  let c0_i32_253 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v580 : BitVec 32 := Scalar.subi v579 v3
  let v581 : BitVec 32 := Scalar.maxsi c0_i32_253 v580
  let v582 : BitVec 32 := Scalar.minsi c1024_i32_254 v581
  let c768_i32_1163 : BitVec 32 := 768#32
  let v1760 : BitVec 32 := Scalar.subi v582 c768_i32_1163
  let v1761 : BitVec 32 := Scalar.maxsi c0_i32_1164 v1760
  let v1762 : BitVec 32 := Scalar.minsi c256_i32_1165 v1761
  let c256_i32_1162 : BitVec 32 := 256#32
  let c0_i32_1161 : BitVec 32 := 0#32
  let c1024_i32_252 : BitVec 32 := 1024#32
  let c0_i32_251 : BitVec 32 := 0#32
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let v1763 : BitVec 1 := Scalar.cmpi .sgt v1762 v1759
  let v1764 : BitVec 32 := Scalar.extui v1763
  let c0_i32_1166 : BitVec 32 := 0#32
  let v1765 : BitVec 1 := Scalar.cmpi .ne v1764 c0_i32_1166
  v1765

def k1_off995 (i : grid1.Coords) (v574 : BitVec 32) (v579 : BitVec 32) (k1_t249 : Fin (k1_t249_loop i v574 v579).trips) : Fin 2 → Nat :=
  let c256_i32_1162 : BitVec 32 := 256#32
  let c0_i32_1161 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let c1_i32_1197 : BitVec 32 := 1#32
  let arg13 : BitVec 32 := Scf.iv v1759 c1_i32_1197 k1_t249
  let v1828 : Index := Scalar.indexCast arg13
  let c0_1207 : Index := 0#32
  ![v1828.toNat, 0]
def k1_off996 (i : grid1.Coords) (v574 : BitVec 32) (v579 : BitVec 32) (k1_t249 : Fin (k1_t249_loop i v574 v579).trips) : Fin 2 → Nat :=
  let c256_i32_1162 : BitVec 32 := 256#32
  let c0_i32_1161 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let c1_i32_1197 : BitVec 32 := 1#32
  let arg13 : BitVec 32 := Scf.iv v1759 c1_i32_1197 k1_t249
  let v1832 : Index := Scalar.indexCast arg13
  let c16_1208 : Index := 16#32
  ![v1832.toNat, 16]
def k1_off997 (i : grid1.Coords) (v574 : BitVec 32) (v579 : BitVec 32) (k1_t249 : Fin (k1_t249_loop i v574 v579).trips) : Fin 2 → Nat :=
  let c256_i32_1162 : BitVec 32 := 256#32
  let c0_i32_1161 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let c1_i32_1197 : BitVec 32 := 1#32
  let arg13 : BitVec 32 := Scf.iv v1759 c1_i32_1197 k1_t249
  let v1836 : Index := Scalar.indexCast arg13
  let c32_1209 : Index := 32#32
  ![v1836.toNat, 32]
def k1_off998 (i : grid1.Coords) (v574 : BitVec 32) (v579 : BitVec 32) (k1_t249 : Fin (k1_t249_loop i v574 v579).trips) : Fin 2 → Nat :=
  let c256_i32_1162 : BitVec 32 := 256#32
  let c0_i32_1161 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let c1_i32_1197 : BitVec 32 := 1#32
  let arg13 : BitVec 32 := Scf.iv v1759 c1_i32_1197 k1_t249
  let v1840 : Index := Scalar.indexCast arg13
  let c48_1210 : Index := 48#32
  ![v1840.toNat, 48]
@[reducible] def k1_t250_loop (i : grid1.Coords) (v574 : BitVec 32) (v579 : BitVec 32) : Scf.Loop 32 :=
  let c256_i32_1162 : BitVec 32 := 256#32
  let c0_i32_1161 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let c256_i32_1165 : BitVec 32 := 256#32
  let c0_i32_1164 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c768_i32_1163 : BitVec 32 := 768#32
  let v1760 : BitVec 32 := Scalar.subi v582 c768_i32_1163
  let v1761 : BitVec 32 := Scalar.maxsi c0_i32_1164 v1760
  let v1762 : BitVec 32 := Scalar.minsi c256_i32_1165 v1761
  let v1805 : BitVec 32 := Scalar.subi v1762 v1759
  let c1_i32_1196 : BitVec 32 := 1#32
  let v1807 : BitVec 32 := Scalar.divsi v1805 c1_i32_1196
  let v1808 : BitVec 32 := Scalar.muli v1807 c1_i32_1196
  let v1809 : BitVec 32 := Scalar.addi v1759 v1808
  let v1806 : BitVec 32 := Scalar.addi v1759 v1805
  let c1_i32_1198 : BitVec 32 := 1#32
  ⟨v1809, v1806, c1_i32_1198⟩
def k1_off999 (i : grid1.Coords) (v574 : BitVec 32) (v579 : BitVec 32) (k1_t250 : Fin (k1_t250_loop i v574 v579).trips) : Fin 2 → Nat :=
  let c256_i32_1162 : BitVec 32 := 256#32
  let c0_i32_1161 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let c256_i32_1165 : BitVec 32 := 256#32
  let c0_i32_1164 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c768_i32_1163 : BitVec 32 := 768#32
  let v1760 : BitVec 32 := Scalar.subi v582 c768_i32_1163
  let v1761 : BitVec 32 := Scalar.maxsi c0_i32_1164 v1760
  let v1762 : BitVec 32 := Scalar.minsi c256_i32_1165 v1761
  let v1805 : BitVec 32 := Scalar.subi v1762 v1759
  let c1_i32_1196 : BitVec 32 := 1#32
  let v1807 : BitVec 32 := Scalar.divsi v1805 c1_i32_1196
  let v1808 : BitVec 32 := Scalar.muli v1807 c1_i32_1196
  let v1809 : BitVec 32 := Scalar.addi v1759 v1808
  let c1_i32_1198 : BitVec 32 := 1#32
  let arg13 : BitVec 32 := Scf.iv v1809 c1_i32_1198 k1_t250
  let v1828 : Index := Scalar.indexCast arg13
  let c0_1207 : Index := 0#32
  ![v1828.toNat, 0]
def k1_off1000 (i : grid1.Coords) (v574 : BitVec 32) (v579 : BitVec 32) (k1_t250 : Fin (k1_t250_loop i v574 v579).trips) : Fin 2 → Nat :=
  let c256_i32_1162 : BitVec 32 := 256#32
  let c0_i32_1161 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let c256_i32_1165 : BitVec 32 := 256#32
  let c0_i32_1164 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c768_i32_1163 : BitVec 32 := 768#32
  let v1760 : BitVec 32 := Scalar.subi v582 c768_i32_1163
  let v1761 : BitVec 32 := Scalar.maxsi c0_i32_1164 v1760
  let v1762 : BitVec 32 := Scalar.minsi c256_i32_1165 v1761
  let v1805 : BitVec 32 := Scalar.subi v1762 v1759
  let c1_i32_1196 : BitVec 32 := 1#32
  let v1807 : BitVec 32 := Scalar.divsi v1805 c1_i32_1196
  let v1808 : BitVec 32 := Scalar.muli v1807 c1_i32_1196
  let v1809 : BitVec 32 := Scalar.addi v1759 v1808
  let c1_i32_1198 : BitVec 32 := 1#32
  let arg13 : BitVec 32 := Scf.iv v1809 c1_i32_1198 k1_t250
  let v1832 : Index := Scalar.indexCast arg13
  let c16_1208 : Index := 16#32
  ![v1832.toNat, 16]
def k1_off1001 (i : grid1.Coords) (v574 : BitVec 32) (v579 : BitVec 32) (k1_t250 : Fin (k1_t250_loop i v574 v579).trips) : Fin 2 → Nat :=
  let c256_i32_1162 : BitVec 32 := 256#32
  let c0_i32_1161 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let c256_i32_1165 : BitVec 32 := 256#32
  let c0_i32_1164 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c768_i32_1163 : BitVec 32 := 768#32
  let v1760 : BitVec 32 := Scalar.subi v582 c768_i32_1163
  let v1761 : BitVec 32 := Scalar.maxsi c0_i32_1164 v1760
  let v1762 : BitVec 32 := Scalar.minsi c256_i32_1165 v1761
  let v1805 : BitVec 32 := Scalar.subi v1762 v1759
  let c1_i32_1196 : BitVec 32 := 1#32
  let v1807 : BitVec 32 := Scalar.divsi v1805 c1_i32_1196
  let v1808 : BitVec 32 := Scalar.muli v1807 c1_i32_1196
  let v1809 : BitVec 32 := Scalar.addi v1759 v1808
  let c1_i32_1198 : BitVec 32 := 1#32
  let arg13 : BitVec 32 := Scf.iv v1809 c1_i32_1198 k1_t250
  let v1836 : Index := Scalar.indexCast arg13
  let c32_1209 : Index := 32#32
  ![v1836.toNat, 32]
def k1_off1002 (i : grid1.Coords) (v574 : BitVec 32) (v579 : BitVec 32) (k1_t250 : Fin (k1_t250_loop i v574 v579).trips) : Fin 2 → Nat :=
  let c256_i32_1162 : BitVec 32 := 256#32
  let c0_i32_1161 : BitVec 32 := 0#32
  let c1024_i32_252 : BitVec 32 := 1024#32
  let c0_i32_251 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v575 : BitVec 32 := Scalar.subi v574 v3
  let v576 : BitVec 32 := Scalar.maxsi c0_i32_251 v575
  let v577 : BitVec 32 := Scalar.minsi c1024_i32_252 v576
  let c768_i32_1160 : BitVec 32 := 768#32
  let v1757 : BitVec 32 := Scalar.subi v577 c768_i32_1160
  let v1758 : BitVec 32 := Scalar.maxsi c0_i32_1161 v1757
  let v1759 : BitVec 32 := Scalar.minsi c256_i32_1162 v1758
  let c256_i32_1165 : BitVec 32 := 256#32
  let c0_i32_1164 : BitVec 32 := 0#32
  let c1024_i32_254 : BitVec 32 := 1024#32
  let c0_i32_253 : BitVec 32 := 0#32
  let v580 : BitVec 32 := Scalar.subi v579 v3
  let v581 : BitVec 32 := Scalar.maxsi c0_i32_253 v580
  let v582 : BitVec 32 := Scalar.minsi c1024_i32_254 v581
  let c768_i32_1163 : BitVec 32 := 768#32
  let v1760 : BitVec 32 := Scalar.subi v582 c768_i32_1163
  let v1761 : BitVec 32 := Scalar.maxsi c0_i32_1164 v1760
  let v1762 : BitVec 32 := Scalar.minsi c256_i32_1165 v1761
  let v1805 : BitVec 32 := Scalar.subi v1762 v1759
  let c1_i32_1196 : BitVec 32 := 1#32
  let v1807 : BitVec 32 := Scalar.divsi v1805 c1_i32_1196
  let v1808 : BitVec 32 := Scalar.muli v1807 c1_i32_1196
  let v1809 : BitVec 32 := Scalar.addi v1759 v1808
  let c1_i32_1198 : BitVec 32 := 1#32
  let arg13 : BitVec 32 := Scf.iv v1809 c1_i32_1198 k1_t250
  let v1840 : Index := Scalar.indexCast arg13
  let c48_1210 : Index := 48#32
  ![v1840.toNat, 48]

def k1_chk29_0 (i : grid1.Coords) (v574 : BitVec 32) (v579 : BitVec 32) : Prop :=
  (∀ (k1_h29 : k1_cond29 i v574 v579 = 1#1), (k1_t57_loop i v574 v579).OK) ∧
  (∀ k1_t57 : Fin (k1_t57_loop i v574 v579).trips, ∀ (k1_h29 : k1_cond29 i v574 v579 = 1#1), ∀ a, (k1_off226 i v574 v579 k1_t57) a + S1x16.size a ≤ S256x128.size a) ∧
  (∀ k1_t57 : Fin (k1_t57_loop i v574 v579).trips, ∀ (k1_h29 : k1_cond29 i v574 v579 = 1#1), ∀ a, (k1_off227 i v574 v579 k1_t57) a + S1x16.size a ≤ S256x128.size a) ∧
  (∀ k1_t57 : Fin (k1_t57_loop i v574 v579).trips, ∀ (k1_h29 : k1_cond29 i v574 v579 = 1#1), ∀ a, (k1_off228 i v574 v579 k1_t57) a + S1x16.size a ≤ S256x128.size a) ∧
  (∀ k1_t57 : Fin (k1_t57_loop i v574 v579).trips, ∀ (k1_h29 : k1_cond29 i v574 v579 = 1#1), ∀ a, (k1_off229 i v574 v579 k1_t57) a + S1x16.size a ≤ S256x128.size a) ∧
  (∀ (k1_h29 : k1_cond29 i v574 v579 = 1#1), (k1_t58_loop i v574 v579).OK) ∧
  (∀ k1_t58 : Fin (k1_t58_loop i v574 v579).trips, ∀ (k1_h29 : k1_cond29 i v574 v579 = 1#1), ∀ a, (k1_off230 i v574 v579 k1_t58) a + S1x16.size a ≤ S256x128.size a) ∧
  (∀ k1_t58 : Fin (k1_t58_loop i v574 v579).trips, ∀ (k1_h29 : k1_cond29 i v574 v579 = 1#1), ∀ a, (k1_off231 i v574 v579 k1_t58) a + S1x16.size a ≤ S256x128.size a) ∧
  (∀ k1_t58 : Fin (k1_t58_loop i v574 v579).trips, ∀ (k1_h29 : k1_cond29 i v574 v579 = 1#1), ∀ a, (k1_off232 i v574 v579 k1_t58) a + S1x16.size a ≤ S256x128.size a) ∧
  (∀ k1_t58 : Fin (k1_t58_loop i v574 v579).trips, ∀ (k1_h29 : k1_cond29 i v574 v579 = 1#1), ∀ a, (k1_off233 i v574 v579 k1_t58) a + S1x16.size a ≤ S256x128.size a) ∧
  (∀ (k1_h61 : k1_cond61 i v574 v579 = 1#1), (k1_t121_loop i v574 v579).OK) ∧
  (∀ k1_t121 : Fin (k1_t121_loop i v574 v579).trips, ∀ (k1_h61 : k1_cond61 i v574 v579 = 1#1), ∀ a, (k1_off483 i v574 v579 k1_t121) a + S1x16.size a ≤ S256x128.size a) ∧
  (∀ k1_t121 : Fin (k1_t121_loop i v574 v579).trips, ∀ (k1_h61 : k1_cond61 i v574 v579 = 1#1), ∀ a, (k1_off484 i v574 v579 k1_t121) a + S1x16.size a ≤ S256x128.size a) ∧
  (∀ k1_t121 : Fin (k1_t121_loop i v574 v579).trips, ∀ (k1_h61 : k1_cond61 i v574 v579 = 1#1), ∀ a, (k1_off485 i v574 v579 k1_t121) a + S1x16.size a ≤ S256x128.size a) ∧
  (∀ k1_t121 : Fin (k1_t121_loop i v574 v579).trips, ∀ (k1_h61 : k1_cond61 i v574 v579 = 1#1), ∀ a, (k1_off486 i v574 v579 k1_t121) a + S1x16.size a ≤ S256x128.size a) ∧
  (∀ (k1_h61 : k1_cond61 i v574 v579 = 1#1), (k1_t122_loop i v574 v579).OK) ∧
  (∀ k1_t122 : Fin (k1_t122_loop i v574 v579).trips, ∀ (k1_h61 : k1_cond61 i v574 v579 = 1#1), ∀ a, (k1_off487 i v574 v579 k1_t122) a + S1x16.size a ≤ S256x128.size a) ∧
  (∀ k1_t122 : Fin (k1_t122_loop i v574 v579).trips, ∀ (k1_h61 : k1_cond61 i v574 v579 = 1#1), ∀ a, (k1_off488 i v574 v579 k1_t122) a + S1x16.size a ≤ S256x128.size a) ∧
  (∀ k1_t122 : Fin (k1_t122_loop i v574 v579).trips, ∀ (k1_h61 : k1_cond61 i v574 v579 = 1#1), ∀ a, (k1_off489 i v574 v579 k1_t122) a + S1x16.size a ≤ S256x128.size a) ∧
  (∀ k1_t122 : Fin (k1_t122_loop i v574 v579).trips, ∀ (k1_h61 : k1_cond61 i v574 v579 = 1#1), ∀ a, (k1_off490 i v574 v579 k1_t122) a + S1x16.size a ≤ S256x128.size a) ∧
  (∀ (k1_h93 : k1_cond93 i v574 v579 = 1#1), (k1_t185_loop i v574 v579).OK) ∧
  (∀ k1_t185 : Fin (k1_t185_loop i v574 v579).trips, ∀ (k1_h93 : k1_cond93 i v574 v579 = 1#1), ∀ a, (k1_off739 i v574 v579 k1_t185) a + S1x16.size a ≤ S256x128.size a) ∧
  (∀ k1_t185 : Fin (k1_t185_loop i v574 v579).trips, ∀ (k1_h93 : k1_cond93 i v574 v579 = 1#1), ∀ a, (k1_off740 i v574 v579 k1_t185) a + S1x16.size a ≤ S256x128.size a) ∧
  (∀ k1_t185 : Fin (k1_t185_loop i v574 v579).trips, ∀ (k1_h93 : k1_cond93 i v574 v579 = 1#1), ∀ a, (k1_off741 i v574 v579 k1_t185) a + S1x16.size a ≤ S256x128.size a) ∧
  (∀ k1_t185 : Fin (k1_t185_loop i v574 v579).trips, ∀ (k1_h93 : k1_cond93 i v574 v579 = 1#1), ∀ a, (k1_off742 i v574 v579 k1_t185) a + S1x16.size a ≤ S256x128.size a) ∧
  (∀ (k1_h93 : k1_cond93 i v574 v579 = 1#1), (k1_t186_loop i v574 v579).OK) ∧
  (∀ k1_t186 : Fin (k1_t186_loop i v574 v579).trips, ∀ (k1_h93 : k1_cond93 i v574 v579 = 1#1), ∀ a, (k1_off743 i v574 v579 k1_t186) a + S1x16.size a ≤ S256x128.size a) ∧
  (∀ k1_t186 : Fin (k1_t186_loop i v574 v579).trips, ∀ (k1_h93 : k1_cond93 i v574 v579 = 1#1), ∀ a, (k1_off744 i v574 v579 k1_t186) a + S1x16.size a ≤ S256x128.size a) ∧
  (∀ k1_t186 : Fin (k1_t186_loop i v574 v579).trips, ∀ (k1_h93 : k1_cond93 i v574 v579 = 1#1), ∀ a, (k1_off745 i v574 v579 k1_t186) a + S1x16.size a ≤ S256x128.size a) ∧
  (∀ k1_t186 : Fin (k1_t186_loop i v574 v579).trips, ∀ (k1_h93 : k1_cond93 i v574 v579 = 1#1), ∀ a, (k1_off746 i v574 v579 k1_t186) a + S1x16.size a ≤ S256x128.size a) ∧
  (∀ (k1_h125 : k1_cond125 i v574 v579 = 1#1), (k1_t249_loop i v574 v579).OK) ∧
  (∀ k1_t249 : Fin (k1_t249_loop i v574 v579).trips, ∀ (k1_h125 : k1_cond125 i v574 v579 = 1#1), ∀ a, (k1_off995 i v574 v579 k1_t249) a + S1x16.size a ≤ S256x128.size a)
def k1_chk29_1 (i : grid1.Coords) (v574 : BitVec 32) (v579 : BitVec 32) : Prop :=
  (∀ k1_t249 : Fin (k1_t249_loop i v574 v579).trips, ∀ (k1_h125 : k1_cond125 i v574 v579 = 1#1), ∀ a, (k1_off996 i v574 v579 k1_t249) a + S1x16.size a ≤ S256x128.size a) ∧
  (∀ k1_t249 : Fin (k1_t249_loop i v574 v579).trips, ∀ (k1_h125 : k1_cond125 i v574 v579 = 1#1), ∀ a, (k1_off997 i v574 v579 k1_t249) a + S1x16.size a ≤ S256x128.size a) ∧
  (∀ k1_t249 : Fin (k1_t249_loop i v574 v579).trips, ∀ (k1_h125 : k1_cond125 i v574 v579 = 1#1), ∀ a, (k1_off998 i v574 v579 k1_t249) a + S1x16.size a ≤ S256x128.size a) ∧
  (∀ (k1_h125 : k1_cond125 i v574 v579 = 1#1), (k1_t250_loop i v574 v579).OK) ∧
  (∀ k1_t250 : Fin (k1_t250_loop i v574 v579).trips, ∀ (k1_h125 : k1_cond125 i v574 v579 = 1#1), ∀ a, (k1_off999 i v574 v579 k1_t250) a + S1x16.size a ≤ S256x128.size a) ∧
  (∀ k1_t250 : Fin (k1_t250_loop i v574 v579).trips, ∀ (k1_h125 : k1_cond125 i v574 v579 = 1#1), ∀ a, (k1_off1000 i v574 v579 k1_t250) a + S1x16.size a ≤ S256x128.size a) ∧
  (∀ k1_t250 : Fin (k1_t250_loop i v574 v579).trips, ∀ (k1_h125 : k1_cond125 i v574 v579 = 1#1), ∀ a, (k1_off1001 i v574 v579 k1_t250) a + S1x16.size a ≤ S256x128.size a) ∧
  (∀ k1_t250 : Fin (k1_t250_loop i v574 v579).trips, ∀ (k1_h125 : k1_cond125 i v574 v579 = 1#1), ∀ a, (k1_off1002 i v574 v579 k1_t250) a + S1x16.size a ≤ S256x128.size a)
def k1_chk29 (i : grid1.Coords) (v574 : BitVec 32) (v579 : BitVec 32) : Prop :=
  k1_chk29_0 i v574 v579 ∧
  k1_chk29_1 i v574 v579
theorem k1_t57_ok : ∀ (i : grid1.Coords) (v574 : BitVec 32) (v579 : BitVec 32) (k1_hw29 : k1_chk29 i v574 v579), ∀ (k1_h29 : k1_cond29 i v574 v579 = 1#1), (k1_t57_loop i v574 v579).OK := fun i v574 v579 k1_hw29 k1_h29 => k1_hw29.1.1 k1_h29
theorem k1_off226_inb : ∀ (i : grid1.Coords) (v574 : BitVec 32) (v579 : BitVec 32) (k1_hw29 : k1_chk29 i v574 v579) (k1_t57 : Fin (k1_t57_loop i v574 v579).trips), ∀ (k1_h29 : k1_cond29 i v574 v579 = 1#1), ∀ a, (k1_off226 i v574 v579 k1_t57) a + S1x16.size a ≤ S256x128.size a := fun i v574 v579 k1_hw29 k1_t57 k1_h29 => k1_hw29.1.2.1 k1_t57 k1_h29
theorem k1_off227_inb : ∀ (i : grid1.Coords) (v574 : BitVec 32) (v579 : BitVec 32) (k1_hw29 : k1_chk29 i v574 v579) (k1_t57 : Fin (k1_t57_loop i v574 v579).trips), ∀ (k1_h29 : k1_cond29 i v574 v579 = 1#1), ∀ a, (k1_off227 i v574 v579 k1_t57) a + S1x16.size a ≤ S256x128.size a := fun i v574 v579 k1_hw29 k1_t57 k1_h29 => k1_hw29.1.2.2.1 k1_t57 k1_h29
theorem k1_off228_inb : ∀ (i : grid1.Coords) (v574 : BitVec 32) (v579 : BitVec 32) (k1_hw29 : k1_chk29 i v574 v579) (k1_t57 : Fin (k1_t57_loop i v574 v579).trips), ∀ (k1_h29 : k1_cond29 i v574 v579 = 1#1), ∀ a, (k1_off228 i v574 v579 k1_t57) a + S1x16.size a ≤ S256x128.size a := fun i v574 v579 k1_hw29 k1_t57 k1_h29 => k1_hw29.1.2.2.2.1 k1_t57 k1_h29
theorem k1_off229_inb : ∀ (i : grid1.Coords) (v574 : BitVec 32) (v579 : BitVec 32) (k1_hw29 : k1_chk29 i v574 v579) (k1_t57 : Fin (k1_t57_loop i v574 v579).trips), ∀ (k1_h29 : k1_cond29 i v574 v579 = 1#1), ∀ a, (k1_off229 i v574 v579 k1_t57) a + S1x16.size a ≤ S256x128.size a := fun i v574 v579 k1_hw29 k1_t57 k1_h29 => k1_hw29.1.2.2.2.2.1 k1_t57 k1_h29
theorem k1_t58_ok : ∀ (i : grid1.Coords) (v574 : BitVec 32) (v579 : BitVec 32) (k1_hw29 : k1_chk29 i v574 v579), ∀ (k1_h29 : k1_cond29 i v574 v579 = 1#1), (k1_t58_loop i v574 v579).OK := fun i v574 v579 k1_hw29 k1_h29 => k1_hw29.1.2.2.2.2.2.1 k1_h29
theorem k1_off230_inb : ∀ (i : grid1.Coords) (v574 : BitVec 32) (v579 : BitVec 32) (k1_hw29 : k1_chk29 i v574 v579) (k1_t58 : Fin (k1_t58_loop i v574 v579).trips), ∀ (k1_h29 : k1_cond29 i v574 v579 = 1#1), ∀ a, (k1_off230 i v574 v579 k1_t58) a + S1x16.size a ≤ S256x128.size a := fun i v574 v579 k1_hw29 k1_t58 k1_h29 => k1_hw29.1.2.2.2.2.2.2.1 k1_t58 k1_h29
theorem k1_off231_inb : ∀ (i : grid1.Coords) (v574 : BitVec 32) (v579 : BitVec 32) (k1_hw29 : k1_chk29 i v574 v579) (k1_t58 : Fin (k1_t58_loop i v574 v579).trips), ∀ (k1_h29 : k1_cond29 i v574 v579 = 1#1), ∀ a, (k1_off231 i v574 v579 k1_t58) a + S1x16.size a ≤ S256x128.size a := fun i v574 v579 k1_hw29 k1_t58 k1_h29 => k1_hw29.1.2.2.2.2.2.2.2.1 k1_t58 k1_h29
theorem k1_off232_inb : ∀ (i : grid1.Coords) (v574 : BitVec 32) (v579 : BitVec 32) (k1_hw29 : k1_chk29 i v574 v579) (k1_t58 : Fin (k1_t58_loop i v574 v579).trips), ∀ (k1_h29 : k1_cond29 i v574 v579 = 1#1), ∀ a, (k1_off232 i v574 v579 k1_t58) a + S1x16.size a ≤ S256x128.size a := fun i v574 v579 k1_hw29 k1_t58 k1_h29 => k1_hw29.1.2.2.2.2.2.2.2.2.1 k1_t58 k1_h29
theorem k1_off233_inb : ∀ (i : grid1.Coords) (v574 : BitVec 32) (v579 : BitVec 32) (k1_hw29 : k1_chk29 i v574 v579) (k1_t58 : Fin (k1_t58_loop i v574 v579).trips), ∀ (k1_h29 : k1_cond29 i v574 v579 = 1#1), ∀ a, (k1_off233 i v574 v579 k1_t58) a + S1x16.size a ≤ S256x128.size a := fun i v574 v579 k1_hw29 k1_t58 k1_h29 => k1_hw29.1.2.2.2.2.2.2.2.2.2.1 k1_t58 k1_h29
theorem k1_t121_ok : ∀ (i : grid1.Coords) (v574 : BitVec 32) (v579 : BitVec 32) (k1_hw29 : k1_chk29 i v574 v579), ∀ (k1_h61 : k1_cond61 i v574 v579 = 1#1), (k1_t121_loop i v574 v579).OK := fun i v574 v579 k1_hw29 k1_h61 => k1_hw29.1.2.2.2.2.2.2.2.2.2.2.1 k1_h61
theorem k1_off483_inb : ∀ (i : grid1.Coords) (v574 : BitVec 32) (v579 : BitVec 32) (k1_hw29 : k1_chk29 i v574 v579) (k1_t121 : Fin (k1_t121_loop i v574 v579).trips), ∀ (k1_h61 : k1_cond61 i v574 v579 = 1#1), ∀ a, (k1_off483 i v574 v579 k1_t121) a + S1x16.size a ≤ S256x128.size a := fun i v574 v579 k1_hw29 k1_t121 k1_h61 => k1_hw29.1.2.2.2.2.2.2.2.2.2.2.2.1 k1_t121 k1_h61
theorem k1_off484_inb : ∀ (i : grid1.Coords) (v574 : BitVec 32) (v579 : BitVec 32) (k1_hw29 : k1_chk29 i v574 v579) (k1_t121 : Fin (k1_t121_loop i v574 v579).trips), ∀ (k1_h61 : k1_cond61 i v574 v579 = 1#1), ∀ a, (k1_off484 i v574 v579 k1_t121) a + S1x16.size a ≤ S256x128.size a := fun i v574 v579 k1_hw29 k1_t121 k1_h61 => k1_hw29.1.2.2.2.2.2.2.2.2.2.2.2.2.1 k1_t121 k1_h61
theorem k1_off485_inb : ∀ (i : grid1.Coords) (v574 : BitVec 32) (v579 : BitVec 32) (k1_hw29 : k1_chk29 i v574 v579) (k1_t121 : Fin (k1_t121_loop i v574 v579).trips), ∀ (k1_h61 : k1_cond61 i v574 v579 = 1#1), ∀ a, (k1_off485 i v574 v579 k1_t121) a + S1x16.size a ≤ S256x128.size a := fun i v574 v579 k1_hw29 k1_t121 k1_h61 => k1_hw29.1.2.2.2.2.2.2.2.2.2.2.2.2.2.1 k1_t121 k1_h61
theorem k1_off486_inb : ∀ (i : grid1.Coords) (v574 : BitVec 32) (v579 : BitVec 32) (k1_hw29 : k1_chk29 i v574 v579) (k1_t121 : Fin (k1_t121_loop i v574 v579).trips), ∀ (k1_h61 : k1_cond61 i v574 v579 = 1#1), ∀ a, (k1_off486 i v574 v579 k1_t121) a + S1x16.size a ≤ S256x128.size a := fun i v574 v579 k1_hw29 k1_t121 k1_h61 => k1_hw29.1.2.2.2.2.2.2.2.2.2.2.2.2.2.2.1 k1_t121 k1_h61
theorem k1_t122_ok : ∀ (i : grid1.Coords) (v574 : BitVec 32) (v579 : BitVec 32) (k1_hw29 : k1_chk29 i v574 v579), ∀ (k1_h61 : k1_cond61 i v574 v579 = 1#1), (k1_t122_loop i v574 v579).OK := fun i v574 v579 k1_hw29 k1_h61 => k1_hw29.1.2.2.2.2.2.2.2.2.2.2.2.2.2.2.2.1 k1_h61
theorem k1_off487_inb : ∀ (i : grid1.Coords) (v574 : BitVec 32) (v579 : BitVec 32) (k1_hw29 : k1_chk29 i v574 v579) (k1_t122 : Fin (k1_t122_loop i v574 v579).trips), ∀ (k1_h61 : k1_cond61 i v574 v579 = 1#1), ∀ a, (k1_off487 i v574 v579 k1_t122) a + S1x16.size a ≤ S256x128.size a := fun i v574 v579 k1_hw29 k1_t122 k1_h61 => k1_hw29.1.2.2.2.2.2.2.2.2.2.2.2.2.2.2.2.2.1 k1_t122 k1_h61
theorem k1_off488_inb : ∀ (i : grid1.Coords) (v574 : BitVec 32) (v579 : BitVec 32) (k1_hw29 : k1_chk29 i v574 v579) (k1_t122 : Fin (k1_t122_loop i v574 v579).trips), ∀ (k1_h61 : k1_cond61 i v574 v579 = 1#1), ∀ a, (k1_off488 i v574 v579 k1_t122) a + S1x16.size a ≤ S256x128.size a := fun i v574 v579 k1_hw29 k1_t122 k1_h61 => k1_hw29.1.2.2.2.2.2.2.2.2.2.2.2.2.2.2.2.2.2.1 k1_t122 k1_h61
theorem k1_off489_inb : ∀ (i : grid1.Coords) (v574 : BitVec 32) (v579 : BitVec 32) (k1_hw29 : k1_chk29 i v574 v579) (k1_t122 : Fin (k1_t122_loop i v574 v579).trips), ∀ (k1_h61 : k1_cond61 i v574 v579 = 1#1), ∀ a, (k1_off489 i v574 v579 k1_t122) a + S1x16.size a ≤ S256x128.size a := fun i v574 v579 k1_hw29 k1_t122 k1_h61 => k1_hw29.1.2.2.2.2.2.2.2.2.2.2.2.2.2.2.2.2.2.2.1 k1_t122 k1_h61
theorem k1_off490_inb : ∀ (i : grid1.Coords) (v574 : BitVec 32) (v579 : BitVec 32) (k1_hw29 : k1_chk29 i v574 v579) (k1_t122 : Fin (k1_t122_loop i v574 v579).trips), ∀ (k1_h61 : k1_cond61 i v574 v579 = 1#1), ∀ a, (k1_off490 i v574 v579 k1_t122) a + S1x16.size a ≤ S256x128.size a := fun i v574 v579 k1_hw29 k1_t122 k1_h61 => k1_hw29.1.2.2.2.2.2.2.2.2.2.2.2.2.2.2.2.2.2.2.2.1 k1_t122 k1_h61
theorem k1_t185_ok : ∀ (i : grid1.Coords) (v574 : BitVec 32) (v579 : BitVec 32) (k1_hw29 : k1_chk29 i v574 v579), ∀ (k1_h93 : k1_cond93 i v574 v579 = 1#1), (k1_t185_loop i v574 v579).OK := fun i v574 v579 k1_hw29 k1_h93 => k1_hw29.1.2.2.2.2.2.2.2.2.2.2.2.2.2.2.2.2.2.2.2.2.1 k1_h93
theorem k1_off739_inb : ∀ (i : grid1.Coords) (v574 : BitVec 32) (v579 : BitVec 32) (k1_hw29 : k1_chk29 i v574 v579) (k1_t185 : Fin (k1_t185_loop i v574 v579).trips), ∀ (k1_h93 : k1_cond93 i v574 v579 = 1#1), ∀ a, (k1_off739 i v574 v579 k1_t185) a + S1x16.size a ≤ S256x128.size a := fun i v574 v579 k1_hw29 k1_t185 k1_h93 => k1_hw29.1.2.2.2.2.2.2.2.2.2.2.2.2.2.2.2.2.2.2.2.2.2.1 k1_t185 k1_h93
theorem k1_off740_inb : ∀ (i : grid1.Coords) (v574 : BitVec 32) (v579 : BitVec 32) (k1_hw29 : k1_chk29 i v574 v579) (k1_t185 : Fin (k1_t185_loop i v574 v579).trips), ∀ (k1_h93 : k1_cond93 i v574 v579 = 1#1), ∀ a, (k1_off740 i v574 v579 k1_t185) a + S1x16.size a ≤ S256x128.size a := fun i v574 v579 k1_hw29 k1_t185 k1_h93 => k1_hw29.1.2.2.2.2.2.2.2.2.2.2.2.2.2.2.2.2.2.2.2.2.2.2.1 k1_t185 k1_h93
theorem k1_off741_inb : ∀ (i : grid1.Coords) (v574 : BitVec 32) (v579 : BitVec 32) (k1_hw29 : k1_chk29 i v574 v579) (k1_t185 : Fin (k1_t185_loop i v574 v579).trips), ∀ (k1_h93 : k1_cond93 i v574 v579 = 1#1), ∀ a, (k1_off741 i v574 v579 k1_t185) a + S1x16.size a ≤ S256x128.size a := fun i v574 v579 k1_hw29 k1_t185 k1_h93 => k1_hw29.1.2.2.2.2.2.2.2.2.2.2.2.2.2.2.2.2.2.2.2.2.2.2.2.1 k1_t185 k1_h93
theorem k1_off742_inb : ∀ (i : grid1.Coords) (v574 : BitVec 32) (v579 : BitVec 32) (k1_hw29 : k1_chk29 i v574 v579) (k1_t185 : Fin (k1_t185_loop i v574 v579).trips), ∀ (k1_h93 : k1_cond93 i v574 v579 = 1#1), ∀ a, (k1_off742 i v574 v579 k1_t185) a + S1x16.size a ≤ S256x128.size a := fun i v574 v579 k1_hw29 k1_t185 k1_h93 => k1_hw29.1.2.2.2.2.2.2.2.2.2.2.2.2.2.2.2.2.2.2.2.2.2.2.2.2.1 k1_t185 k1_h93
theorem k1_t186_ok : ∀ (i : grid1.Coords) (v574 : BitVec 32) (v579 : BitVec 32) (k1_hw29 : k1_chk29 i v574 v579), ∀ (k1_h93 : k1_cond93 i v574 v579 = 1#1), (k1_t186_loop i v574 v579).OK := fun i v574 v579 k1_hw29 k1_h93 => k1_hw29.1.2.2.2.2.2.2.2.2.2.2.2.2.2.2.2.2.2.2.2.2.2.2.2.2.2.1 k1_h93
theorem k1_off743_inb : ∀ (i : grid1.Coords) (v574 : BitVec 32) (v579 : BitVec 32) (k1_hw29 : k1_chk29 i v574 v579) (k1_t186 : Fin (k1_t186_loop i v574 v579).trips), ∀ (k1_h93 : k1_cond93 i v574 v579 = 1#1), ∀ a, (k1_off743 i v574 v579 k1_t186) a + S1x16.size a ≤ S256x128.size a := fun i v574 v579 k1_hw29 k1_t186 k1_h93 => k1_hw29.1.2.2.2.2.2.2.2.2.2.2.2.2.2.2.2.2.2.2.2.2.2.2.2.2.2.2.1 k1_t186 k1_h93
theorem k1_off744_inb : ∀ (i : grid1.Coords) (v574 : BitVec 32) (v579 : BitVec 32) (k1_hw29 : k1_chk29 i v574 v579) (k1_t186 : Fin (k1_t186_loop i v574 v579).trips), ∀ (k1_h93 : k1_cond93 i v574 v579 = 1#1), ∀ a, (k1_off744 i v574 v579 k1_t186) a + S1x16.size a ≤ S256x128.size a := fun i v574 v579 k1_hw29 k1_t186 k1_h93 => k1_hw29.1.2.2.2.2.2.2.2.2.2.2.2.2.2.2.2.2.2.2.2.2.2.2.2.2.2.2.2.1 k1_t186 k1_h93
theorem k1_off745_inb : ∀ (i : grid1.Coords) (v574 : BitVec 32) (v579 : BitVec 32) (k1_hw29 : k1_chk29 i v574 v579) (k1_t186 : Fin (k1_t186_loop i v574 v579).trips), ∀ (k1_h93 : k1_cond93 i v574 v579 = 1#1), ∀ a, (k1_off745 i v574 v579 k1_t186) a + S1x16.size a ≤ S256x128.size a := fun i v574 v579 k1_hw29 k1_t186 k1_h93 => k1_hw29.1.2.2.2.2.2.2.2.2.2.2.2.2.2.2.2.2.2.2.2.2.2.2.2.2.2.2.2.2.1 k1_t186 k1_h93
theorem k1_off746_inb : ∀ (i : grid1.Coords) (v574 : BitVec 32) (v579 : BitVec 32) (k1_hw29 : k1_chk29 i v574 v579) (k1_t186 : Fin (k1_t186_loop i v574 v579).trips), ∀ (k1_h93 : k1_cond93 i v574 v579 = 1#1), ∀ a, (k1_off746 i v574 v579 k1_t186) a + S1x16.size a ≤ S256x128.size a := fun i v574 v579 k1_hw29 k1_t186 k1_h93 => k1_hw29.1.2.2.2.2.2.2.2.2.2.2.2.2.2.2.2.2.2.2.2.2.2.2.2.2.2.2.2.2.2.1 k1_t186 k1_h93
theorem k1_t249_ok : ∀ (i : grid1.Coords) (v574 : BitVec 32) (v579 : BitVec 32) (k1_hw29 : k1_chk29 i v574 v579), ∀ (k1_h125 : k1_cond125 i v574 v579 = 1#1), (k1_t249_loop i v574 v579).OK := fun i v574 v579 k1_hw29 k1_h125 => k1_hw29.1.2.2.2.2.2.2.2.2.2.2.2.2.2.2.2.2.2.2.2.2.2.2.2.2.2.2.2.2.2.2.1 k1_h125
theorem k1_off995_inb : ∀ (i : grid1.Coords) (v574 : BitVec 32) (v579 : BitVec 32) (k1_hw29 : k1_chk29 i v574 v579) (k1_t249 : Fin (k1_t249_loop i v574 v579).trips), ∀ (k1_h125 : k1_cond125 i v574 v579 = 1#1), ∀ a, (k1_off995 i v574 v579 k1_t249) a + S1x16.size a ≤ S256x128.size a := fun i v574 v579 k1_hw29 k1_t249 k1_h125 => k1_hw29.1.2.2.2.2.2.2.2.2.2.2.2.2.2.2.2.2.2.2.2.2.2.2.2.2.2.2.2.2.2.2.2 k1_t249 k1_h125
theorem k1_off996_inb : ∀ (i : grid1.Coords) (v574 : BitVec 32) (v579 : BitVec 32) (k1_hw29 : k1_chk29 i v574 v579) (k1_t249 : Fin (k1_t249_loop i v574 v579).trips), ∀ (k1_h125 : k1_cond125 i v574 v579 = 1#1), ∀ a, (k1_off996 i v574 v579 k1_t249) a + S1x16.size a ≤ S256x128.size a := fun i v574 v579 k1_hw29 k1_t249 k1_h125 => k1_hw29.2.1 k1_t249 k1_h125
theorem k1_off997_inb : ∀ (i : grid1.Coords) (v574 : BitVec 32) (v579 : BitVec 32) (k1_hw29 : k1_chk29 i v574 v579) (k1_t249 : Fin (k1_t249_loop i v574 v579).trips), ∀ (k1_h125 : k1_cond125 i v574 v579 = 1#1), ∀ a, (k1_off997 i v574 v579 k1_t249) a + S1x16.size a ≤ S256x128.size a := fun i v574 v579 k1_hw29 k1_t249 k1_h125 => k1_hw29.2.2.1 k1_t249 k1_h125
theorem k1_off998_inb : ∀ (i : grid1.Coords) (v574 : BitVec 32) (v579 : BitVec 32) (k1_hw29 : k1_chk29 i v574 v579) (k1_t249 : Fin (k1_t249_loop i v574 v579).trips), ∀ (k1_h125 : k1_cond125 i v574 v579 = 1#1), ∀ a, (k1_off998 i v574 v579 k1_t249) a + S1x16.size a ≤ S256x128.size a := fun i v574 v579 k1_hw29 k1_t249 k1_h125 => k1_hw29.2.2.2.1 k1_t249 k1_h125
theorem k1_t250_ok : ∀ (i : grid1.Coords) (v574 : BitVec 32) (v579 : BitVec 32) (k1_hw29 : k1_chk29 i v574 v579), ∀ (k1_h125 : k1_cond125 i v574 v579 = 1#1), (k1_t250_loop i v574 v579).OK := fun i v574 v579 k1_hw29 k1_h125 => k1_hw29.2.2.2.2.1 k1_h125
theorem k1_off999_inb : ∀ (i : grid1.Coords) (v574 : BitVec 32) (v579 : BitVec 32) (k1_hw29 : k1_chk29 i v574 v579) (k1_t250 : Fin (k1_t250_loop i v574 v579).trips), ∀ (k1_h125 : k1_cond125 i v574 v579 = 1#1), ∀ a, (k1_off999 i v574 v579 k1_t250) a + S1x16.size a ≤ S256x128.size a := fun i v574 v579 k1_hw29 k1_t250 k1_h125 => k1_hw29.2.2.2.2.2.1 k1_t250 k1_h125
theorem k1_off1000_inb : ∀ (i : grid1.Coords) (v574 : BitVec 32) (v579 : BitVec 32) (k1_hw29 : k1_chk29 i v574 v579) (k1_t250 : Fin (k1_t250_loop i v574 v579).trips), ∀ (k1_h125 : k1_cond125 i v574 v579 = 1#1), ∀ a, (k1_off1000 i v574 v579 k1_t250) a + S1x16.size a ≤ S256x128.size a := fun i v574 v579 k1_hw29 k1_t250 k1_h125 => k1_hw29.2.2.2.2.2.2.1 k1_t250 k1_h125
theorem k1_off1001_inb : ∀ (i : grid1.Coords) (v574 : BitVec 32) (v579 : BitVec 32) (k1_hw29 : k1_chk29 i v574 v579) (k1_t250 : Fin (k1_t250_loop i v574 v579).trips), ∀ (k1_h125 : k1_cond125 i v574 v579 = 1#1), ∀ a, (k1_off1001 i v574 v579 k1_t250) a + S1x16.size a ≤ S256x128.size a := fun i v574 v579 k1_hw29 k1_t250 k1_h125 => k1_hw29.2.2.2.2.2.2.2.1 k1_t250 k1_h125
theorem k1_off1002_inb : ∀ (i : grid1.Coords) (v574 : BitVec 32) (v579 : BitVec 32) (k1_hw29 : k1_chk29 i v574 v579) (k1_t250 : Fin (k1_t250_loop i v574 v579).trips), ∀ (k1_h125 : k1_cond125 i v574 v579 = 1#1), ∀ a, (k1_off1002 i v574 v579 k1_t250) a + S1x16.size a ≤ S256x128.size a := fun i v574 v579 k1_hw29 k1_t250 k1_h125 => k1_hw29.2.2.2.2.2.2.2.2 k1_t250 k1_h125

@[reducible] def k1_t251_loop (i : grid1.Coords) (v584 : BitVec 32) (v590 : BitVec 32) : Scf.Loop 32 :=
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let c256_i32_1172 : BitVec 32 := 256#32
  let c0_i32_1171 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c768_i32_1170 : BitVec 32 := 768#32
  let v1769 : BitVec 32 := Scalar.subi v594 c768_i32_1170
  let v1770 : BitVec 32 := Scalar.maxsi c0_i32_1171 v1769
  let v1771 : BitVec 32 := Scalar.minsi c256_i32_1172 v1770
  let v1805 : BitVec 32 := Scalar.subi v1771 v1768
  let c1_i32_1196 : BitVec 32 := 1#32
  let v1807 : BitVec 32 := Scalar.divsi v1805 c1_i32_1196
  let v1808 : BitVec 32 := Scalar.muli v1807 c1_i32_1196
  let v1809 : BitVec 32 := Scalar.addi v1768 v1808
  let c1_i32_1197 : BitVec 32 := 1#32
  ⟨v1768, v1809, c1_i32_1197⟩
def k1_cond126 (i : grid1.Coords) (v584 : BitVec 32) (v590 : BitVec 32) : BitVec 1 :=
  let c256_i32_1172 : BitVec 32 := 256#32
  let c0_i32_1171 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v592 : BitVec 32 := Scalar.subi v591 v3
  let v593 : BitVec 32 := Scalar.maxsi c0_i32_259 v592
  let v594 : BitVec 32 := Scalar.minsi c1024_i32_260 v593
  let c768_i32_1170 : BitVec 32 := 768#32
  let v1769 : BitVec 32 := Scalar.subi v594 c768_i32_1170
  let v1770 : BitVec 32 := Scalar.maxsi c0_i32_1171 v1769
  let v1771 : BitVec 32 := Scalar.minsi c256_i32_1172 v1770
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let v1772 : BitVec 1 := Scalar.cmpi .sgt v1771 v1768
  let v1773 : BitVec 32 := Scalar.extui v1772
  let c0_i32_1173 : BitVec 32 := 0#32
  let v1774 : BitVec 1 := Scalar.cmpi .ne v1773 c0_i32_1173
  v1774

def k1_off1003 (i : grid1.Coords) (v584 : BitVec 32) (v590 : BitVec 32) (k1_t251 : Fin (k1_t251_loop i v584 v590).trips) : Fin 2 → Nat :=
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let c1_i32_1197 : BitVec 32 := 1#32
  let arg13 : BitVec 32 := Scf.iv v1768 c1_i32_1197 k1_t251
  let v1828 : Index := Scalar.indexCast arg13
  let c64 : Index := 64#32
  ![v1828.toNat, 64]
def k1_off1004 (i : grid1.Coords) (v584 : BitVec 32) (v590 : BitVec 32) (k1_t251 : Fin (k1_t251_loop i v584 v590).trips) : Fin 2 → Nat :=
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let c1_i32_1197 : BitVec 32 := 1#32
  let arg13 : BitVec 32 := Scf.iv v1768 c1_i32_1197 k1_t251
  let v1832 : Index := Scalar.indexCast arg13
  let c80 : Index := 80#32
  ![v1832.toNat, 80]
def k1_off1005 (i : grid1.Coords) (v584 : BitVec 32) (v590 : BitVec 32) (k1_t251 : Fin (k1_t251_loop i v584 v590).trips) : Fin 2 → Nat :=
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let c1_i32_1197 : BitVec 32 := 1#32
  let arg13 : BitVec 32 := Scf.iv v1768 c1_i32_1197 k1_t251
  let v1836 : Index := Scalar.indexCast arg13
  let c96 : Index := 96#32
  ![v1836.toNat, 96]
def k1_off1006 (i : grid1.Coords) (v584 : BitVec 32) (v590 : BitVec 32) (k1_t251 : Fin (k1_t251_loop i v584 v590).trips) : Fin 2 → Nat :=
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let c1_i32_1197 : BitVec 32 := 1#32
  let arg13 : BitVec 32 := Scf.iv v1768 c1_i32_1197 k1_t251
  let v1840 : Index := Scalar.indexCast arg13
  let c112 : Index := 112#32
  ![v1840.toNat, 112]
@[reducible] def k1_t252_loop (i : grid1.Coords) (v584 : BitVec 32) (v590 : BitVec 32) : Scf.Loop 32 :=
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let c256_i32_1172 : BitVec 32 := 256#32
  let c0_i32_1171 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c768_i32_1170 : BitVec 32 := 768#32
  let v1769 : BitVec 32 := Scalar.subi v594 c768_i32_1170
  let v1770 : BitVec 32 := Scalar.maxsi c0_i32_1171 v1769
  let v1771 : BitVec 32 := Scalar.minsi c256_i32_1172 v1770
  let v1805 : BitVec 32 := Scalar.subi v1771 v1768
  let c1_i32_1196 : BitVec 32 := 1#32
  let v1807 : BitVec 32 := Scalar.divsi v1805 c1_i32_1196
  let v1808 : BitVec 32 := Scalar.muli v1807 c1_i32_1196
  let v1809 : BitVec 32 := Scalar.addi v1768 v1808
  let v1806 : BitVec 32 := Scalar.addi v1768 v1805
  let c1_i32_1198 : BitVec 32 := 1#32
  ⟨v1809, v1806, c1_i32_1198⟩
def k1_off1007 (i : grid1.Coords) (v584 : BitVec 32) (v590 : BitVec 32) (k1_t252 : Fin (k1_t252_loop i v584 v590).trips) : Fin 2 → Nat :=
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let c256_i32_1172 : BitVec 32 := 256#32
  let c0_i32_1171 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c768_i32_1170 : BitVec 32 := 768#32
  let v1769 : BitVec 32 := Scalar.subi v594 c768_i32_1170
  let v1770 : BitVec 32 := Scalar.maxsi c0_i32_1171 v1769
  let v1771 : BitVec 32 := Scalar.minsi c256_i32_1172 v1770
  let v1805 : BitVec 32 := Scalar.subi v1771 v1768
  let c1_i32_1196 : BitVec 32 := 1#32
  let v1807 : BitVec 32 := Scalar.divsi v1805 c1_i32_1196
  let v1808 : BitVec 32 := Scalar.muli v1807 c1_i32_1196
  let v1809 : BitVec 32 := Scalar.addi v1768 v1808
  let c1_i32_1198 : BitVec 32 := 1#32
  let arg13 : BitVec 32 := Scf.iv v1809 c1_i32_1198 k1_t252
  let v1828 : Index := Scalar.indexCast arg13
  let c64 : Index := 64#32
  ![v1828.toNat, 64]
def k1_off1008 (i : grid1.Coords) (v584 : BitVec 32) (v590 : BitVec 32) (k1_t252 : Fin (k1_t252_loop i v584 v590).trips) : Fin 2 → Nat :=
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let c256_i32_1172 : BitVec 32 := 256#32
  let c0_i32_1171 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c768_i32_1170 : BitVec 32 := 768#32
  let v1769 : BitVec 32 := Scalar.subi v594 c768_i32_1170
  let v1770 : BitVec 32 := Scalar.maxsi c0_i32_1171 v1769
  let v1771 : BitVec 32 := Scalar.minsi c256_i32_1172 v1770
  let v1805 : BitVec 32 := Scalar.subi v1771 v1768
  let c1_i32_1196 : BitVec 32 := 1#32
  let v1807 : BitVec 32 := Scalar.divsi v1805 c1_i32_1196
  let v1808 : BitVec 32 := Scalar.muli v1807 c1_i32_1196
  let v1809 : BitVec 32 := Scalar.addi v1768 v1808
  let c1_i32_1198 : BitVec 32 := 1#32
  let arg13 : BitVec 32 := Scf.iv v1809 c1_i32_1198 k1_t252
  let v1832 : Index := Scalar.indexCast arg13
  let c80 : Index := 80#32
  ![v1832.toNat, 80]
def k1_off1009 (i : grid1.Coords) (v584 : BitVec 32) (v590 : BitVec 32) (k1_t252 : Fin (k1_t252_loop i v584 v590).trips) : Fin 2 → Nat :=
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let c256_i32_1172 : BitVec 32 := 256#32
  let c0_i32_1171 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c768_i32_1170 : BitVec 32 := 768#32
  let v1769 : BitVec 32 := Scalar.subi v594 c768_i32_1170
  let v1770 : BitVec 32 := Scalar.maxsi c0_i32_1171 v1769
  let v1771 : BitVec 32 := Scalar.minsi c256_i32_1172 v1770
  let v1805 : BitVec 32 := Scalar.subi v1771 v1768
  let c1_i32_1196 : BitVec 32 := 1#32
  let v1807 : BitVec 32 := Scalar.divsi v1805 c1_i32_1196
  let v1808 : BitVec 32 := Scalar.muli v1807 c1_i32_1196
  let v1809 : BitVec 32 := Scalar.addi v1768 v1808
  let c1_i32_1198 : BitVec 32 := 1#32
  let arg13 : BitVec 32 := Scf.iv v1809 c1_i32_1198 k1_t252
  let v1836 : Index := Scalar.indexCast arg13
  let c96 : Index := 96#32
  ![v1836.toNat, 96]
def k1_off1010 (i : grid1.Coords) (v584 : BitVec 32) (v590 : BitVec 32) (k1_t252 : Fin (k1_t252_loop i v584 v590).trips) : Fin 2 → Nat :=
  let c256_i32_1169 : BitVec 32 := 256#32
  let c0_i32_1168 : BitVec 32 := 0#32
  let c1024_i32_257 : BitVec 32 := 1024#32
  let c0_i32_256 : BitVec 32 := 0#32
  let c65536_i32_255 : BitVec 32 := 65536#32
  let v585 : BitVec 32 := Scalar.subi v584 c65536_i32_255
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v586 : BitVec 32 := Scalar.subi v585 v3
  let v587 : BitVec 32 := Scalar.maxsi c0_i32_256 v586
  let v588 : BitVec 32 := Scalar.minsi c1024_i32_257 v587
  let c768_i32_1167 : BitVec 32 := 768#32
  let v1766 : BitVec 32 := Scalar.subi v588 c768_i32_1167
  let v1767 : BitVec 32 := Scalar.maxsi c0_i32_1168 v1766
  let v1768 : BitVec 32 := Scalar.minsi c256_i32_1169 v1767
  let c256_i32_1172 : BitVec 32 := 256#32
  let c0_i32_1171 : BitVec 32 := 0#32
  let c1024_i32_260 : BitVec 32 := 1024#32
  let c0_i32_259 : BitVec 32 := 0#32
  let c65536_i32_258 : BitVec 32 := 65536#32
  let v591 : BitVec 32 := Scalar.subi v590 c65536_i32_258
  let v592 : BitVec 32 := Scalar.subi v591 v3
  let v593 : BitVec 32 := Scalar.maxsi c0_i32_259 v592
  let v594 : BitVec 32 := Scalar.minsi c1024_i32_260 v593
  let c768_i32_1170 : BitVec 32 := 768#32
  let v1769 : BitVec 32 := Scalar.subi v594 c768_i32_1170
  let v1770 : BitVec 32 := Scalar.maxsi c0_i32_1171 v1769
  let v1771 : BitVec 32 := Scalar.minsi c256_i32_1172 v1770
  let v1805 : BitVec 32 := Scalar.subi v1771 v1768
  let c1_i32_1196 : BitVec 32 := 1#32
  let v1807 : BitVec 32 := Scalar.divsi v1805 c1_i32_1196
  let v1808 : BitVec 32 := Scalar.muli v1807 c1_i32_1196
  let v1809 : BitVec 32 := Scalar.addi v1768 v1808
  let c1_i32_1198 : BitVec 32 := 1#32
  let arg13 : BitVec 32 := Scf.iv v1809 c1_i32_1198 k1_t252
  let v1840 : Index := Scalar.indexCast arg13
  let c112 : Index := 112#32
  ![v1840.toNat, 112]

def k1_chk30_0 (i : grid1.Coords) (v584 : BitVec 32) (v590 : BitVec 32) : Prop :=
  (∀ (k1_h30 : k1_cond30 i v584 v590 = 1#1), (k1_t59_loop i v584 v590).OK) ∧
  (∀ k1_t59 : Fin (k1_t59_loop i v584 v590).trips, ∀ (k1_h30 : k1_cond30 i v584 v590 = 1#1), ∀ a, (k1_off234 i v584 v590 k1_t59) a + S1x16.size a ≤ S256x128.size a) ∧
  (∀ k1_t59 : Fin (k1_t59_loop i v584 v590).trips, ∀ (k1_h30 : k1_cond30 i v584 v590 = 1#1), ∀ a, (k1_off235 i v584 v590 k1_t59) a + S1x16.size a ≤ S256x128.size a) ∧
  (∀ k1_t59 : Fin (k1_t59_loop i v584 v590).trips, ∀ (k1_h30 : k1_cond30 i v584 v590 = 1#1), ∀ a, (k1_off236 i v584 v590 k1_t59) a + S1x16.size a ≤ S256x128.size a) ∧
  (∀ k1_t59 : Fin (k1_t59_loop i v584 v590).trips, ∀ (k1_h30 : k1_cond30 i v584 v590 = 1#1), ∀ a, (k1_off237 i v584 v590 k1_t59) a + S1x16.size a ≤ S256x128.size a) ∧
  (∀ (k1_h30 : k1_cond30 i v584 v590 = 1#1), (k1_t60_loop i v584 v590).OK) ∧
  (∀ k1_t60 : Fin (k1_t60_loop i v584 v590).trips, ∀ (k1_h30 : k1_cond30 i v584 v590 = 1#1), ∀ a, (k1_off238 i v584 v590 k1_t60) a + S1x16.size a ≤ S256x128.size a) ∧
  (∀ k1_t60 : Fin (k1_t60_loop i v584 v590).trips, ∀ (k1_h30 : k1_cond30 i v584 v590 = 1#1), ∀ a, (k1_off239 i v584 v590 k1_t60) a + S1x16.size a ≤ S256x128.size a) ∧
  (∀ k1_t60 : Fin (k1_t60_loop i v584 v590).trips, ∀ (k1_h30 : k1_cond30 i v584 v590 = 1#1), ∀ a, (k1_off240 i v584 v590 k1_t60) a + S1x16.size a ≤ S256x128.size a) ∧
  (∀ k1_t60 : Fin (k1_t60_loop i v584 v590).trips, ∀ (k1_h30 : k1_cond30 i v584 v590 = 1#1), ∀ a, (k1_off241 i v584 v590 k1_t60) a + S1x16.size a ≤ S256x128.size a) ∧
  (∀ (k1_h62 : k1_cond62 i v584 v590 = 1#1), (k1_t123_loop i v584 v590).OK) ∧
  (∀ k1_t123 : Fin (k1_t123_loop i v584 v590).trips, ∀ (k1_h62 : k1_cond62 i v584 v590 = 1#1), ∀ a, (k1_off491 i v584 v590 k1_t123) a + S1x16.size a ≤ S256x128.size a) ∧
  (∀ k1_t123 : Fin (k1_t123_loop i v584 v590).trips, ∀ (k1_h62 : k1_cond62 i v584 v590 = 1#1), ∀ a, (k1_off492 i v584 v590 k1_t123) a + S1x16.size a ≤ S256x128.size a) ∧
  (∀ k1_t123 : Fin (k1_t123_loop i v584 v590).trips, ∀ (k1_h62 : k1_cond62 i v584 v590 = 1#1), ∀ a, (k1_off493 i v584 v590 k1_t123) a + S1x16.size a ≤ S256x128.size a) ∧
  (∀ k1_t123 : Fin (k1_t123_loop i v584 v590).trips, ∀ (k1_h62 : k1_cond62 i v584 v590 = 1#1), ∀ a, (k1_off494 i v584 v590 k1_t123) a + S1x16.size a ≤ S256x128.size a) ∧
  (∀ (k1_h62 : k1_cond62 i v584 v590 = 1#1), (k1_t124_loop i v584 v590).OK) ∧
  (∀ k1_t124 : Fin (k1_t124_loop i v584 v590).trips, ∀ (k1_h62 : k1_cond62 i v584 v590 = 1#1), ∀ a, (k1_off495 i v584 v590 k1_t124) a + S1x16.size a ≤ S256x128.size a) ∧
  (∀ k1_t124 : Fin (k1_t124_loop i v584 v590).trips, ∀ (k1_h62 : k1_cond62 i v584 v590 = 1#1), ∀ a, (k1_off496 i v584 v590 k1_t124) a + S1x16.size a ≤ S256x128.size a) ∧
  (∀ k1_t124 : Fin (k1_t124_loop i v584 v590).trips, ∀ (k1_h62 : k1_cond62 i v584 v590 = 1#1), ∀ a, (k1_off497 i v584 v590 k1_t124) a + S1x16.size a ≤ S256x128.size a) ∧
  (∀ k1_t124 : Fin (k1_t124_loop i v584 v590).trips, ∀ (k1_h62 : k1_cond62 i v584 v590 = 1#1), ∀ a, (k1_off498 i v584 v590 k1_t124) a + S1x16.size a ≤ S256x128.size a) ∧
  (∀ (k1_h94 : k1_cond94 i v584 v590 = 1#1), (k1_t187_loop i v584 v590).OK) ∧
  (∀ k1_t187 : Fin (k1_t187_loop i v584 v590).trips, ∀ (k1_h94 : k1_cond94 i v584 v590 = 1#1), ∀ a, (k1_off747 i v584 v590 k1_t187) a + S1x16.size a ≤ S256x128.size a) ∧
  (∀ k1_t187 : Fin (k1_t187_loop i v584 v590).trips, ∀ (k1_h94 : k1_cond94 i v584 v590 = 1#1), ∀ a, (k1_off748 i v584 v590 k1_t187) a + S1x16.size a ≤ S256x128.size a) ∧
  (∀ k1_t187 : Fin (k1_t187_loop i v584 v590).trips, ∀ (k1_h94 : k1_cond94 i v584 v590 = 1#1), ∀ a, (k1_off749 i v584 v590 k1_t187) a + S1x16.size a ≤ S256x128.size a) ∧
  (∀ k1_t187 : Fin (k1_t187_loop i v584 v590).trips, ∀ (k1_h94 : k1_cond94 i v584 v590 = 1#1), ∀ a, (k1_off750 i v584 v590 k1_t187) a + S1x16.size a ≤ S256x128.size a) ∧
  (∀ (k1_h94 : k1_cond94 i v584 v590 = 1#1), (k1_t188_loop i v584 v590).OK) ∧
  (∀ k1_t188 : Fin (k1_t188_loop i v584 v590).trips, ∀ (k1_h94 : k1_cond94 i v584 v590 = 1#1), ∀ a, (k1_off751 i v584 v590 k1_t188) a + S1x16.size a ≤ S256x128.size a) ∧
  (∀ k1_t188 : Fin (k1_t188_loop i v584 v590).trips, ∀ (k1_h94 : k1_cond94 i v584 v590 = 1#1), ∀ a, (k1_off752 i v584 v590 k1_t188) a + S1x16.size a ≤ S256x128.size a) ∧
  (∀ k1_t188 : Fin (k1_t188_loop i v584 v590).trips, ∀ (k1_h94 : k1_cond94 i v584 v590 = 1#1), ∀ a, (k1_off753 i v584 v590 k1_t188) a + S1x16.size a ≤ S256x128.size a) ∧
  (∀ k1_t188 : Fin (k1_t188_loop i v584 v590).trips, ∀ (k1_h94 : k1_cond94 i v584 v590 = 1#1), ∀ a, (k1_off754 i v584 v590 k1_t188) a + S1x16.size a ≤ S256x128.size a) ∧
  (∀ (k1_h126 : k1_cond126 i v584 v590 = 1#1), (k1_t251_loop i v584 v590).OK) ∧
  (∀ k1_t251 : Fin (k1_t251_loop i v584 v590).trips, ∀ (k1_h126 : k1_cond126 i v584 v590 = 1#1), ∀ a, (k1_off1003 i v584 v590 k1_t251) a + S1x16.size a ≤ S256x128.size a)
def k1_chk30_1 (i : grid1.Coords) (v584 : BitVec 32) (v590 : BitVec 32) : Prop :=
  (∀ k1_t251 : Fin (k1_t251_loop i v584 v590).trips, ∀ (k1_h126 : k1_cond126 i v584 v590 = 1#1), ∀ a, (k1_off1004 i v584 v590 k1_t251) a + S1x16.size a ≤ S256x128.size a) ∧
  (∀ k1_t251 : Fin (k1_t251_loop i v584 v590).trips, ∀ (k1_h126 : k1_cond126 i v584 v590 = 1#1), ∀ a, (k1_off1005 i v584 v590 k1_t251) a + S1x16.size a ≤ S256x128.size a) ∧
  (∀ k1_t251 : Fin (k1_t251_loop i v584 v590).trips, ∀ (k1_h126 : k1_cond126 i v584 v590 = 1#1), ∀ a, (k1_off1006 i v584 v590 k1_t251) a + S1x16.size a ≤ S256x128.size a) ∧
  (∀ (k1_h126 : k1_cond126 i v584 v590 = 1#1), (k1_t252_loop i v584 v590).OK) ∧
  (∀ k1_t252 : Fin (k1_t252_loop i v584 v590).trips, ∀ (k1_h126 : k1_cond126 i v584 v590 = 1#1), ∀ a, (k1_off1007 i v584 v590 k1_t252) a + S1x16.size a ≤ S256x128.size a) ∧
  (∀ k1_t252 : Fin (k1_t252_loop i v584 v590).trips, ∀ (k1_h126 : k1_cond126 i v584 v590 = 1#1), ∀ a, (k1_off1008 i v584 v590 k1_t252) a + S1x16.size a ≤ S256x128.size a) ∧
  (∀ k1_t252 : Fin (k1_t252_loop i v584 v590).trips, ∀ (k1_h126 : k1_cond126 i v584 v590 = 1#1), ∀ a, (k1_off1009 i v584 v590 k1_t252) a + S1x16.size a ≤ S256x128.size a) ∧
  (∀ k1_t252 : Fin (k1_t252_loop i v584 v590).trips, ∀ (k1_h126 : k1_cond126 i v584 v590 = 1#1), ∀ a, (k1_off1010 i v584 v590 k1_t252) a + S1x16.size a ≤ S256x128.size a)
def k1_chk30 (i : grid1.Coords) (v584 : BitVec 32) (v590 : BitVec 32) : Prop :=
  k1_chk30_0 i v584 v590 ∧
  k1_chk30_1 i v584 v590
theorem k1_t59_ok : ∀ (i : grid1.Coords) (v584 : BitVec 32) (v590 : BitVec 32) (k1_hw30 : k1_chk30 i v584 v590), ∀ (k1_h30 : k1_cond30 i v584 v590 = 1#1), (k1_t59_loop i v584 v590).OK := fun i v584 v590 k1_hw30 k1_h30 => k1_hw30.1.1 k1_h30
theorem k1_off234_inb : ∀ (i : grid1.Coords) (v584 : BitVec 32) (v590 : BitVec 32) (k1_hw30 : k1_chk30 i v584 v590) (k1_t59 : Fin (k1_t59_loop i v584 v590).trips), ∀ (k1_h30 : k1_cond30 i v584 v590 = 1#1), ∀ a, (k1_off234 i v584 v590 k1_t59) a + S1x16.size a ≤ S256x128.size a := fun i v584 v590 k1_hw30 k1_t59 k1_h30 => k1_hw30.1.2.1 k1_t59 k1_h30
theorem k1_off235_inb : ∀ (i : grid1.Coords) (v584 : BitVec 32) (v590 : BitVec 32) (k1_hw30 : k1_chk30 i v584 v590) (k1_t59 : Fin (k1_t59_loop i v584 v590).trips), ∀ (k1_h30 : k1_cond30 i v584 v590 = 1#1), ∀ a, (k1_off235 i v584 v590 k1_t59) a + S1x16.size a ≤ S256x128.size a := fun i v584 v590 k1_hw30 k1_t59 k1_h30 => k1_hw30.1.2.2.1 k1_t59 k1_h30
theorem k1_off236_inb : ∀ (i : grid1.Coords) (v584 : BitVec 32) (v590 : BitVec 32) (k1_hw30 : k1_chk30 i v584 v590) (k1_t59 : Fin (k1_t59_loop i v584 v590).trips), ∀ (k1_h30 : k1_cond30 i v584 v590 = 1#1), ∀ a, (k1_off236 i v584 v590 k1_t59) a + S1x16.size a ≤ S256x128.size a := fun i v584 v590 k1_hw30 k1_t59 k1_h30 => k1_hw30.1.2.2.2.1 k1_t59 k1_h30
theorem k1_off237_inb : ∀ (i : grid1.Coords) (v584 : BitVec 32) (v590 : BitVec 32) (k1_hw30 : k1_chk30 i v584 v590) (k1_t59 : Fin (k1_t59_loop i v584 v590).trips), ∀ (k1_h30 : k1_cond30 i v584 v590 = 1#1), ∀ a, (k1_off237 i v584 v590 k1_t59) a + S1x16.size a ≤ S256x128.size a := fun i v584 v590 k1_hw30 k1_t59 k1_h30 => k1_hw30.1.2.2.2.2.1 k1_t59 k1_h30
theorem k1_t60_ok : ∀ (i : grid1.Coords) (v584 : BitVec 32) (v590 : BitVec 32) (k1_hw30 : k1_chk30 i v584 v590), ∀ (k1_h30 : k1_cond30 i v584 v590 = 1#1), (k1_t60_loop i v584 v590).OK := fun i v584 v590 k1_hw30 k1_h30 => k1_hw30.1.2.2.2.2.2.1 k1_h30
theorem k1_off238_inb : ∀ (i : grid1.Coords) (v584 : BitVec 32) (v590 : BitVec 32) (k1_hw30 : k1_chk30 i v584 v590) (k1_t60 : Fin (k1_t60_loop i v584 v590).trips), ∀ (k1_h30 : k1_cond30 i v584 v590 = 1#1), ∀ a, (k1_off238 i v584 v590 k1_t60) a + S1x16.size a ≤ S256x128.size a := fun i v584 v590 k1_hw30 k1_t60 k1_h30 => k1_hw30.1.2.2.2.2.2.2.1 k1_t60 k1_h30
theorem k1_off239_inb : ∀ (i : grid1.Coords) (v584 : BitVec 32) (v590 : BitVec 32) (k1_hw30 : k1_chk30 i v584 v590) (k1_t60 : Fin (k1_t60_loop i v584 v590).trips), ∀ (k1_h30 : k1_cond30 i v584 v590 = 1#1), ∀ a, (k1_off239 i v584 v590 k1_t60) a + S1x16.size a ≤ S256x128.size a := fun i v584 v590 k1_hw30 k1_t60 k1_h30 => k1_hw30.1.2.2.2.2.2.2.2.1 k1_t60 k1_h30
theorem k1_off240_inb : ∀ (i : grid1.Coords) (v584 : BitVec 32) (v590 : BitVec 32) (k1_hw30 : k1_chk30 i v584 v590) (k1_t60 : Fin (k1_t60_loop i v584 v590).trips), ∀ (k1_h30 : k1_cond30 i v584 v590 = 1#1), ∀ a, (k1_off240 i v584 v590 k1_t60) a + S1x16.size a ≤ S256x128.size a := fun i v584 v590 k1_hw30 k1_t60 k1_h30 => k1_hw30.1.2.2.2.2.2.2.2.2.1 k1_t60 k1_h30
theorem k1_off241_inb : ∀ (i : grid1.Coords) (v584 : BitVec 32) (v590 : BitVec 32) (k1_hw30 : k1_chk30 i v584 v590) (k1_t60 : Fin (k1_t60_loop i v584 v590).trips), ∀ (k1_h30 : k1_cond30 i v584 v590 = 1#1), ∀ a, (k1_off241 i v584 v590 k1_t60) a + S1x16.size a ≤ S256x128.size a := fun i v584 v590 k1_hw30 k1_t60 k1_h30 => k1_hw30.1.2.2.2.2.2.2.2.2.2.1 k1_t60 k1_h30
theorem k1_t123_ok : ∀ (i : grid1.Coords) (v584 : BitVec 32) (v590 : BitVec 32) (k1_hw30 : k1_chk30 i v584 v590), ∀ (k1_h62 : k1_cond62 i v584 v590 = 1#1), (k1_t123_loop i v584 v590).OK := fun i v584 v590 k1_hw30 k1_h62 => k1_hw30.1.2.2.2.2.2.2.2.2.2.2.1 k1_h62
theorem k1_off491_inb : ∀ (i : grid1.Coords) (v584 : BitVec 32) (v590 : BitVec 32) (k1_hw30 : k1_chk30 i v584 v590) (k1_t123 : Fin (k1_t123_loop i v584 v590).trips), ∀ (k1_h62 : k1_cond62 i v584 v590 = 1#1), ∀ a, (k1_off491 i v584 v590 k1_t123) a + S1x16.size a ≤ S256x128.size a := fun i v584 v590 k1_hw30 k1_t123 k1_h62 => k1_hw30.1.2.2.2.2.2.2.2.2.2.2.2.1 k1_t123 k1_h62
theorem k1_off492_inb : ∀ (i : grid1.Coords) (v584 : BitVec 32) (v590 : BitVec 32) (k1_hw30 : k1_chk30 i v584 v590) (k1_t123 : Fin (k1_t123_loop i v584 v590).trips), ∀ (k1_h62 : k1_cond62 i v584 v590 = 1#1), ∀ a, (k1_off492 i v584 v590 k1_t123) a + S1x16.size a ≤ S256x128.size a := fun i v584 v590 k1_hw30 k1_t123 k1_h62 => k1_hw30.1.2.2.2.2.2.2.2.2.2.2.2.2.1 k1_t123 k1_h62
theorem k1_off493_inb : ∀ (i : grid1.Coords) (v584 : BitVec 32) (v590 : BitVec 32) (k1_hw30 : k1_chk30 i v584 v590) (k1_t123 : Fin (k1_t123_loop i v584 v590).trips), ∀ (k1_h62 : k1_cond62 i v584 v590 = 1#1), ∀ a, (k1_off493 i v584 v590 k1_t123) a + S1x16.size a ≤ S256x128.size a := fun i v584 v590 k1_hw30 k1_t123 k1_h62 => k1_hw30.1.2.2.2.2.2.2.2.2.2.2.2.2.2.1 k1_t123 k1_h62
theorem k1_off494_inb : ∀ (i : grid1.Coords) (v584 : BitVec 32) (v590 : BitVec 32) (k1_hw30 : k1_chk30 i v584 v590) (k1_t123 : Fin (k1_t123_loop i v584 v590).trips), ∀ (k1_h62 : k1_cond62 i v584 v590 = 1#1), ∀ a, (k1_off494 i v584 v590 k1_t123) a + S1x16.size a ≤ S256x128.size a := fun i v584 v590 k1_hw30 k1_t123 k1_h62 => k1_hw30.1.2.2.2.2.2.2.2.2.2.2.2.2.2.2.1 k1_t123 k1_h62
theorem k1_t124_ok : ∀ (i : grid1.Coords) (v584 : BitVec 32) (v590 : BitVec 32) (k1_hw30 : k1_chk30 i v584 v590), ∀ (k1_h62 : k1_cond62 i v584 v590 = 1#1), (k1_t124_loop i v584 v590).OK := fun i v584 v590 k1_hw30 k1_h62 => k1_hw30.1.2.2.2.2.2.2.2.2.2.2.2.2.2.2.2.1 k1_h62
theorem k1_off495_inb : ∀ (i : grid1.Coords) (v584 : BitVec 32) (v590 : BitVec 32) (k1_hw30 : k1_chk30 i v584 v590) (k1_t124 : Fin (k1_t124_loop i v584 v590).trips), ∀ (k1_h62 : k1_cond62 i v584 v590 = 1#1), ∀ a, (k1_off495 i v584 v590 k1_t124) a + S1x16.size a ≤ S256x128.size a := fun i v584 v590 k1_hw30 k1_t124 k1_h62 => k1_hw30.1.2.2.2.2.2.2.2.2.2.2.2.2.2.2.2.2.1 k1_t124 k1_h62
theorem k1_off496_inb : ∀ (i : grid1.Coords) (v584 : BitVec 32) (v590 : BitVec 32) (k1_hw30 : k1_chk30 i v584 v590) (k1_t124 : Fin (k1_t124_loop i v584 v590).trips), ∀ (k1_h62 : k1_cond62 i v584 v590 = 1#1), ∀ a, (k1_off496 i v584 v590 k1_t124) a + S1x16.size a ≤ S256x128.size a := fun i v584 v590 k1_hw30 k1_t124 k1_h62 => k1_hw30.1.2.2.2.2.2.2.2.2.2.2.2.2.2.2.2.2.2.1 k1_t124 k1_h62
theorem k1_off497_inb : ∀ (i : grid1.Coords) (v584 : BitVec 32) (v590 : BitVec 32) (k1_hw30 : k1_chk30 i v584 v590) (k1_t124 : Fin (k1_t124_loop i v584 v590).trips), ∀ (k1_h62 : k1_cond62 i v584 v590 = 1#1), ∀ a, (k1_off497 i v584 v590 k1_t124) a + S1x16.size a ≤ S256x128.size a := fun i v584 v590 k1_hw30 k1_t124 k1_h62 => k1_hw30.1.2.2.2.2.2.2.2.2.2.2.2.2.2.2.2.2.2.2.1 k1_t124 k1_h62
theorem k1_off498_inb : ∀ (i : grid1.Coords) (v584 : BitVec 32) (v590 : BitVec 32) (k1_hw30 : k1_chk30 i v584 v590) (k1_t124 : Fin (k1_t124_loop i v584 v590).trips), ∀ (k1_h62 : k1_cond62 i v584 v590 = 1#1), ∀ a, (k1_off498 i v584 v590 k1_t124) a + S1x16.size a ≤ S256x128.size a := fun i v584 v590 k1_hw30 k1_t124 k1_h62 => k1_hw30.1.2.2.2.2.2.2.2.2.2.2.2.2.2.2.2.2.2.2.2.1 k1_t124 k1_h62
theorem k1_t187_ok : ∀ (i : grid1.Coords) (v584 : BitVec 32) (v590 : BitVec 32) (k1_hw30 : k1_chk30 i v584 v590), ∀ (k1_h94 : k1_cond94 i v584 v590 = 1#1), (k1_t187_loop i v584 v590).OK := fun i v584 v590 k1_hw30 k1_h94 => k1_hw30.1.2.2.2.2.2.2.2.2.2.2.2.2.2.2.2.2.2.2.2.2.1 k1_h94
theorem k1_off747_inb : ∀ (i : grid1.Coords) (v584 : BitVec 32) (v590 : BitVec 32) (k1_hw30 : k1_chk30 i v584 v590) (k1_t187 : Fin (k1_t187_loop i v584 v590).trips), ∀ (k1_h94 : k1_cond94 i v584 v590 = 1#1), ∀ a, (k1_off747 i v584 v590 k1_t187) a + S1x16.size a ≤ S256x128.size a := fun i v584 v590 k1_hw30 k1_t187 k1_h94 => k1_hw30.1.2.2.2.2.2.2.2.2.2.2.2.2.2.2.2.2.2.2.2.2.2.1 k1_t187 k1_h94
theorem k1_off748_inb : ∀ (i : grid1.Coords) (v584 : BitVec 32) (v590 : BitVec 32) (k1_hw30 : k1_chk30 i v584 v590) (k1_t187 : Fin (k1_t187_loop i v584 v590).trips), ∀ (k1_h94 : k1_cond94 i v584 v590 = 1#1), ∀ a, (k1_off748 i v584 v590 k1_t187) a + S1x16.size a ≤ S256x128.size a := fun i v584 v590 k1_hw30 k1_t187 k1_h94 => k1_hw30.1.2.2.2.2.2.2.2.2.2.2.2.2.2.2.2.2.2.2.2.2.2.2.1 k1_t187 k1_h94
theorem k1_off749_inb : ∀ (i : grid1.Coords) (v584 : BitVec 32) (v590 : BitVec 32) (k1_hw30 : k1_chk30 i v584 v590) (k1_t187 : Fin (k1_t187_loop i v584 v590).trips), ∀ (k1_h94 : k1_cond94 i v584 v590 = 1#1), ∀ a, (k1_off749 i v584 v590 k1_t187) a + S1x16.size a ≤ S256x128.size a := fun i v584 v590 k1_hw30 k1_t187 k1_h94 => k1_hw30.1.2.2.2.2.2.2.2.2.2.2.2.2.2.2.2.2.2.2.2.2.2.2.2.1 k1_t187 k1_h94
theorem k1_off750_inb : ∀ (i : grid1.Coords) (v584 : BitVec 32) (v590 : BitVec 32) (k1_hw30 : k1_chk30 i v584 v590) (k1_t187 : Fin (k1_t187_loop i v584 v590).trips), ∀ (k1_h94 : k1_cond94 i v584 v590 = 1#1), ∀ a, (k1_off750 i v584 v590 k1_t187) a + S1x16.size a ≤ S256x128.size a := fun i v584 v590 k1_hw30 k1_t187 k1_h94 => k1_hw30.1.2.2.2.2.2.2.2.2.2.2.2.2.2.2.2.2.2.2.2.2.2.2.2.2.1 k1_t187 k1_h94
theorem k1_t188_ok : ∀ (i : grid1.Coords) (v584 : BitVec 32) (v590 : BitVec 32) (k1_hw30 : k1_chk30 i v584 v590), ∀ (k1_h94 : k1_cond94 i v584 v590 = 1#1), (k1_t188_loop i v584 v590).OK := fun i v584 v590 k1_hw30 k1_h94 => k1_hw30.1.2.2.2.2.2.2.2.2.2.2.2.2.2.2.2.2.2.2.2.2.2.2.2.2.2.1 k1_h94
theorem k1_off751_inb : ∀ (i : grid1.Coords) (v584 : BitVec 32) (v590 : BitVec 32) (k1_hw30 : k1_chk30 i v584 v590) (k1_t188 : Fin (k1_t188_loop i v584 v590).trips), ∀ (k1_h94 : k1_cond94 i v584 v590 = 1#1), ∀ a, (k1_off751 i v584 v590 k1_t188) a + S1x16.size a ≤ S256x128.size a := fun i v584 v590 k1_hw30 k1_t188 k1_h94 => k1_hw30.1.2.2.2.2.2.2.2.2.2.2.2.2.2.2.2.2.2.2.2.2.2.2.2.2.2.2.1 k1_t188 k1_h94
theorem k1_off752_inb : ∀ (i : grid1.Coords) (v584 : BitVec 32) (v590 : BitVec 32) (k1_hw30 : k1_chk30 i v584 v590) (k1_t188 : Fin (k1_t188_loop i v584 v590).trips), ∀ (k1_h94 : k1_cond94 i v584 v590 = 1#1), ∀ a, (k1_off752 i v584 v590 k1_t188) a + S1x16.size a ≤ S256x128.size a := fun i v584 v590 k1_hw30 k1_t188 k1_h94 => k1_hw30.1.2.2.2.2.2.2.2.2.2.2.2.2.2.2.2.2.2.2.2.2.2.2.2.2.2.2.2.1 k1_t188 k1_h94
theorem k1_off753_inb : ∀ (i : grid1.Coords) (v584 : BitVec 32) (v590 : BitVec 32) (k1_hw30 : k1_chk30 i v584 v590) (k1_t188 : Fin (k1_t188_loop i v584 v590).trips), ∀ (k1_h94 : k1_cond94 i v584 v590 = 1#1), ∀ a, (k1_off753 i v584 v590 k1_t188) a + S1x16.size a ≤ S256x128.size a := fun i v584 v590 k1_hw30 k1_t188 k1_h94 => k1_hw30.1.2.2.2.2.2.2.2.2.2.2.2.2.2.2.2.2.2.2.2.2.2.2.2.2.2.2.2.2.1 k1_t188 k1_h94
theorem k1_off754_inb : ∀ (i : grid1.Coords) (v584 : BitVec 32) (v590 : BitVec 32) (k1_hw30 : k1_chk30 i v584 v590) (k1_t188 : Fin (k1_t188_loop i v584 v590).trips), ∀ (k1_h94 : k1_cond94 i v584 v590 = 1#1), ∀ a, (k1_off754 i v584 v590 k1_t188) a + S1x16.size a ≤ S256x128.size a := fun i v584 v590 k1_hw30 k1_t188 k1_h94 => k1_hw30.1.2.2.2.2.2.2.2.2.2.2.2.2.2.2.2.2.2.2.2.2.2.2.2.2.2.2.2.2.2.1 k1_t188 k1_h94
theorem k1_t251_ok : ∀ (i : grid1.Coords) (v584 : BitVec 32) (v590 : BitVec 32) (k1_hw30 : k1_chk30 i v584 v590), ∀ (k1_h126 : k1_cond126 i v584 v590 = 1#1), (k1_t251_loop i v584 v590).OK := fun i v584 v590 k1_hw30 k1_h126 => k1_hw30.1.2.2.2.2.2.2.2.2.2.2.2.2.2.2.2.2.2.2.2.2.2.2.2.2.2.2.2.2.2.2.1 k1_h126
theorem k1_off1003_inb : ∀ (i : grid1.Coords) (v584 : BitVec 32) (v590 : BitVec 32) (k1_hw30 : k1_chk30 i v584 v590) (k1_t251 : Fin (k1_t251_loop i v584 v590).trips), ∀ (k1_h126 : k1_cond126 i v584 v590 = 1#1), ∀ a, (k1_off1003 i v584 v590 k1_t251) a + S1x16.size a ≤ S256x128.size a := fun i v584 v590 k1_hw30 k1_t251 k1_h126 => k1_hw30.1.2.2.2.2.2.2.2.2.2.2.2.2.2.2.2.2.2.2.2.2.2.2.2.2.2.2.2.2.2.2.2 k1_t251 k1_h126
theorem k1_off1004_inb : ∀ (i : grid1.Coords) (v584 : BitVec 32) (v590 : BitVec 32) (k1_hw30 : k1_chk30 i v584 v590) (k1_t251 : Fin (k1_t251_loop i v584 v590).trips), ∀ (k1_h126 : k1_cond126 i v584 v590 = 1#1), ∀ a, (k1_off1004 i v584 v590 k1_t251) a + S1x16.size a ≤ S256x128.size a := fun i v584 v590 k1_hw30 k1_t251 k1_h126 => k1_hw30.2.1 k1_t251 k1_h126
theorem k1_off1005_inb : ∀ (i : grid1.Coords) (v584 : BitVec 32) (v590 : BitVec 32) (k1_hw30 : k1_chk30 i v584 v590) (k1_t251 : Fin (k1_t251_loop i v584 v590).trips), ∀ (k1_h126 : k1_cond126 i v584 v590 = 1#1), ∀ a, (k1_off1005 i v584 v590 k1_t251) a + S1x16.size a ≤ S256x128.size a := fun i v584 v590 k1_hw30 k1_t251 k1_h126 => k1_hw30.2.2.1 k1_t251 k1_h126
theorem k1_off1006_inb : ∀ (i : grid1.Coords) (v584 : BitVec 32) (v590 : BitVec 32) (k1_hw30 : k1_chk30 i v584 v590) (k1_t251 : Fin (k1_t251_loop i v584 v590).trips), ∀ (k1_h126 : k1_cond126 i v584 v590 = 1#1), ∀ a, (k1_off1006 i v584 v590 k1_t251) a + S1x16.size a ≤ S256x128.size a := fun i v584 v590 k1_hw30 k1_t251 k1_h126 => k1_hw30.2.2.2.1 k1_t251 k1_h126
theorem k1_t252_ok : ∀ (i : grid1.Coords) (v584 : BitVec 32) (v590 : BitVec 32) (k1_hw30 : k1_chk30 i v584 v590), ∀ (k1_h126 : k1_cond126 i v584 v590 = 1#1), (k1_t252_loop i v584 v590).OK := fun i v584 v590 k1_hw30 k1_h126 => k1_hw30.2.2.2.2.1 k1_h126
theorem k1_off1007_inb : ∀ (i : grid1.Coords) (v584 : BitVec 32) (v590 : BitVec 32) (k1_hw30 : k1_chk30 i v584 v590) (k1_t252 : Fin (k1_t252_loop i v584 v590).trips), ∀ (k1_h126 : k1_cond126 i v584 v590 = 1#1), ∀ a, (k1_off1007 i v584 v590 k1_t252) a + S1x16.size a ≤ S256x128.size a := fun i v584 v590 k1_hw30 k1_t252 k1_h126 => k1_hw30.2.2.2.2.2.1 k1_t252 k1_h126
theorem k1_off1008_inb : ∀ (i : grid1.Coords) (v584 : BitVec 32) (v590 : BitVec 32) (k1_hw30 : k1_chk30 i v584 v590) (k1_t252 : Fin (k1_t252_loop i v584 v590).trips), ∀ (k1_h126 : k1_cond126 i v584 v590 = 1#1), ∀ a, (k1_off1008 i v584 v590 k1_t252) a + S1x16.size a ≤ S256x128.size a := fun i v584 v590 k1_hw30 k1_t252 k1_h126 => k1_hw30.2.2.2.2.2.2.1 k1_t252 k1_h126
theorem k1_off1009_inb : ∀ (i : grid1.Coords) (v584 : BitVec 32) (v590 : BitVec 32) (k1_hw30 : k1_chk30 i v584 v590) (k1_t252 : Fin (k1_t252_loop i v584 v590).trips), ∀ (k1_h126 : k1_cond126 i v584 v590 = 1#1), ∀ a, (k1_off1009 i v584 v590 k1_t252) a + S1x16.size a ≤ S256x128.size a := fun i v584 v590 k1_hw30 k1_t252 k1_h126 => k1_hw30.2.2.2.2.2.2.2.1 k1_t252 k1_h126
theorem k1_off1010_inb : ∀ (i : grid1.Coords) (v584 : BitVec 32) (v590 : BitVec 32) (k1_hw30 : k1_chk30 i v584 v590) (k1_t252 : Fin (k1_t252_loop i v584 v590).trips), ∀ (k1_h126 : k1_cond126 i v584 v590 = 1#1), ∀ a, (k1_off1010 i v584 v590 k1_t252) a + S1x16.size a ≤ S256x128.size a := fun i v584 v590 k1_hw30 k1_t252 k1_h126 => k1_hw30.2.2.2.2.2.2.2.2 k1_t252 k1_h126

@[reducible] def k1_t253_loop (i : grid1.Coords) (v596 : BitVec 32) (v601 : BitVec 32) : Scf.Loop 32 :=
  let c256_i32_1176 : BitVec 32 := 256#32
  let c0_i32_1175 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let c256_i32_1179 : BitVec 32 := 256#32
  let c0_i32_1178 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c768_i32_1177 : BitVec 32 := 768#32
  let v1778 : BitVec 32 := Scalar.subi v604 c768_i32_1177
  let v1779 : BitVec 32 := Scalar.maxsi c0_i32_1178 v1778
  let v1780 : BitVec 32 := Scalar.minsi c256_i32_1179 v1779
  let v1805 : BitVec 32 := Scalar.subi v1780 v1777
  let c1_i32_1196 : BitVec 32 := 1#32
  let v1807 : BitVec 32 := Scalar.divsi v1805 c1_i32_1196
  let v1808 : BitVec 32 := Scalar.muli v1807 c1_i32_1196
  let v1809 : BitVec 32 := Scalar.addi v1777 v1808
  let c1_i32_1197 : BitVec 32 := 1#32
  ⟨v1777, v1809, c1_i32_1197⟩
def k1_cond127 (i : grid1.Coords) (v596 : BitVec 32) (v601 : BitVec 32) : BitVec 1 :=
  let c256_i32_1179 : BitVec 32 := 256#32
  let c0_i32_1178 : BitVec 32 := 0#32
  let c1024_i32_264 : BitVec 32 := 1024#32
  let c0_i32_263 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v602 : BitVec 32 := Scalar.subi v601 v3
  let v603 : BitVec 32 := Scalar.maxsi c0_i32_263 v602
  let v604 : BitVec 32 := Scalar.minsi c1024_i32_264 v603
  let c768_i32_1177 : BitVec 32 := 768#32
  let v1778 : BitVec 32 := Scalar.subi v604 c768_i32_1177
  let v1779 : BitVec 32 := Scalar.maxsi c0_i32_1178 v1778
  let v1780 : BitVec 32 := Scalar.minsi c256_i32_1179 v1779
  let c256_i32_1176 : BitVec 32 := 256#32
  let c0_i32_1175 : BitVec 32 := 0#32
  let c1024_i32_262 : BitVec 32 := 1024#32
  let c0_i32_261 : BitVec 32 := 0#32
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let v1781 : BitVec 1 := Scalar.cmpi .sgt v1780 v1777
  let v1782 : BitVec 32 := Scalar.extui v1781
  let c0_i32_1180 : BitVec 32 := 0#32
  let v1783 : BitVec 1 := Scalar.cmpi .ne v1782 c0_i32_1180
  v1783

def k1_off1011 (i : grid1.Coords) (v596 : BitVec 32) (v601 : BitVec 32) (k1_t253 : Fin (k1_t253_loop i v596 v601).trips) : Fin 2 → Nat :=
  let c256_i32_1176 : BitVec 32 := 256#32
  let c0_i32_1175 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let c1_i32_1197 : BitVec 32 := 1#32
  let arg13 : BitVec 32 := Scf.iv v1777 c1_i32_1197 k1_t253
  let v1828 : Index := Scalar.indexCast arg13
  let c0_1207 : Index := 0#32
  ![v1828.toNat, 0]
def k1_off1012 (i : grid1.Coords) (v596 : BitVec 32) (v601 : BitVec 32) (k1_t253 : Fin (k1_t253_loop i v596 v601).trips) : Fin 2 → Nat :=
  let c256_i32_1176 : BitVec 32 := 256#32
  let c0_i32_1175 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let c1_i32_1197 : BitVec 32 := 1#32
  let arg13 : BitVec 32 := Scf.iv v1777 c1_i32_1197 k1_t253
  let v1832 : Index := Scalar.indexCast arg13
  let c16_1208 : Index := 16#32
  ![v1832.toNat, 16]
def k1_off1013 (i : grid1.Coords) (v596 : BitVec 32) (v601 : BitVec 32) (k1_t253 : Fin (k1_t253_loop i v596 v601).trips) : Fin 2 → Nat :=
  let c256_i32_1176 : BitVec 32 := 256#32
  let c0_i32_1175 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let c1_i32_1197 : BitVec 32 := 1#32
  let arg13 : BitVec 32 := Scf.iv v1777 c1_i32_1197 k1_t253
  let v1836 : Index := Scalar.indexCast arg13
  let c32_1209 : Index := 32#32
  ![v1836.toNat, 32]
def k1_off1014 (i : grid1.Coords) (v596 : BitVec 32) (v601 : BitVec 32) (k1_t253 : Fin (k1_t253_loop i v596 v601).trips) : Fin 2 → Nat :=
  let c256_i32_1176 : BitVec 32 := 256#32
  let c0_i32_1175 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let c1_i32_1197 : BitVec 32 := 1#32
  let arg13 : BitVec 32 := Scf.iv v1777 c1_i32_1197 k1_t253
  let v1840 : Index := Scalar.indexCast arg13
  let c48_1210 : Index := 48#32
  ![v1840.toNat, 48]
@[reducible] def k1_t254_loop (i : grid1.Coords) (v596 : BitVec 32) (v601 : BitVec 32) : Scf.Loop 32 :=
  let c256_i32_1176 : BitVec 32 := 256#32
  let c0_i32_1175 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let c256_i32_1179 : BitVec 32 := 256#32
  let c0_i32_1178 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c768_i32_1177 : BitVec 32 := 768#32
  let v1778 : BitVec 32 := Scalar.subi v604 c768_i32_1177
  let v1779 : BitVec 32 := Scalar.maxsi c0_i32_1178 v1778
  let v1780 : BitVec 32 := Scalar.minsi c256_i32_1179 v1779
  let v1805 : BitVec 32 := Scalar.subi v1780 v1777
  let c1_i32_1196 : BitVec 32 := 1#32
  let v1807 : BitVec 32 := Scalar.divsi v1805 c1_i32_1196
  let v1808 : BitVec 32 := Scalar.muli v1807 c1_i32_1196
  let v1809 : BitVec 32 := Scalar.addi v1777 v1808
  let v1806 : BitVec 32 := Scalar.addi v1777 v1805
  let c1_i32_1198 : BitVec 32 := 1#32
  ⟨v1809, v1806, c1_i32_1198⟩
def k1_off1015 (i : grid1.Coords) (v596 : BitVec 32) (v601 : BitVec 32) (k1_t254 : Fin (k1_t254_loop i v596 v601).trips) : Fin 2 → Nat :=
  let c256_i32_1176 : BitVec 32 := 256#32
  let c0_i32_1175 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let c256_i32_1179 : BitVec 32 := 256#32
  let c0_i32_1178 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c768_i32_1177 : BitVec 32 := 768#32
  let v1778 : BitVec 32 := Scalar.subi v604 c768_i32_1177
  let v1779 : BitVec 32 := Scalar.maxsi c0_i32_1178 v1778
  let v1780 : BitVec 32 := Scalar.minsi c256_i32_1179 v1779
  let v1805 : BitVec 32 := Scalar.subi v1780 v1777
  let c1_i32_1196 : BitVec 32 := 1#32
  let v1807 : BitVec 32 := Scalar.divsi v1805 c1_i32_1196
  let v1808 : BitVec 32 := Scalar.muli v1807 c1_i32_1196
  let v1809 : BitVec 32 := Scalar.addi v1777 v1808
  let c1_i32_1198 : BitVec 32 := 1#32
  let arg13 : BitVec 32 := Scf.iv v1809 c1_i32_1198 k1_t254
  let v1828 : Index := Scalar.indexCast arg13
  let c0_1207 : Index := 0#32
  ![v1828.toNat, 0]
def k1_off1016 (i : grid1.Coords) (v596 : BitVec 32) (v601 : BitVec 32) (k1_t254 : Fin (k1_t254_loop i v596 v601).trips) : Fin 2 → Nat :=
  let c256_i32_1176 : BitVec 32 := 256#32
  let c0_i32_1175 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let c256_i32_1179 : BitVec 32 := 256#32
  let c0_i32_1178 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c768_i32_1177 : BitVec 32 := 768#32
  let v1778 : BitVec 32 := Scalar.subi v604 c768_i32_1177
  let v1779 : BitVec 32 := Scalar.maxsi c0_i32_1178 v1778
  let v1780 : BitVec 32 := Scalar.minsi c256_i32_1179 v1779
  let v1805 : BitVec 32 := Scalar.subi v1780 v1777
  let c1_i32_1196 : BitVec 32 := 1#32
  let v1807 : BitVec 32 := Scalar.divsi v1805 c1_i32_1196
  let v1808 : BitVec 32 := Scalar.muli v1807 c1_i32_1196
  let v1809 : BitVec 32 := Scalar.addi v1777 v1808
  let c1_i32_1198 : BitVec 32 := 1#32
  let arg13 : BitVec 32 := Scf.iv v1809 c1_i32_1198 k1_t254
  let v1832 : Index := Scalar.indexCast arg13
  let c16_1208 : Index := 16#32
  ![v1832.toNat, 16]
def k1_off1017 (i : grid1.Coords) (v596 : BitVec 32) (v601 : BitVec 32) (k1_t254 : Fin (k1_t254_loop i v596 v601).trips) : Fin 2 → Nat :=
  let c256_i32_1176 : BitVec 32 := 256#32
  let c0_i32_1175 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let c256_i32_1179 : BitVec 32 := 256#32
  let c0_i32_1178 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c768_i32_1177 : BitVec 32 := 768#32
  let v1778 : BitVec 32 := Scalar.subi v604 c768_i32_1177
  let v1779 : BitVec 32 := Scalar.maxsi c0_i32_1178 v1778
  let v1780 : BitVec 32 := Scalar.minsi c256_i32_1179 v1779
  let v1805 : BitVec 32 := Scalar.subi v1780 v1777
  let c1_i32_1196 : BitVec 32 := 1#32
  let v1807 : BitVec 32 := Scalar.divsi v1805 c1_i32_1196
  let v1808 : BitVec 32 := Scalar.muli v1807 c1_i32_1196
  let v1809 : BitVec 32 := Scalar.addi v1777 v1808
  let c1_i32_1198 : BitVec 32 := 1#32
  let arg13 : BitVec 32 := Scf.iv v1809 c1_i32_1198 k1_t254
  let v1836 : Index := Scalar.indexCast arg13
  let c32_1209 : Index := 32#32
  ![v1836.toNat, 32]
def k1_off1018 (i : grid1.Coords) (v596 : BitVec 32) (v601 : BitVec 32) (k1_t254 : Fin (k1_t254_loop i v596 v601).trips) : Fin 2 → Nat :=
  let c256_i32_1176 : BitVec 32 := 256#32
  let c0_i32_1175 : BitVec 32 := 0#32
  let c1024_i32_262 : BitVec 32 := 1024#32
  let c0_i32_261 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v597 : BitVec 32 := Scalar.subi v596 v3
  let v598 : BitVec 32 := Scalar.maxsi c0_i32_261 v597
  let v599 : BitVec 32 := Scalar.minsi c1024_i32_262 v598
  let c768_i32_1174 : BitVec 32 := 768#32
  let v1775 : BitVec 32 := Scalar.subi v599 c768_i32_1174
  let v1776 : BitVec 32 := Scalar.maxsi c0_i32_1175 v1775
  let v1777 : BitVec 32 := Scalar.minsi c256_i32_1176 v1776
  let c256_i32_1179 : BitVec 32 := 256#32
  let c0_i32_1178 : BitVec 32 := 0#32
  let c1024_i32_264 : BitVec 32 := 1024#32
  let c0_i32_263 : BitVec 32 := 0#32
  let v602 : BitVec 32 := Scalar.subi v601 v3
  let v603 : BitVec 32 := Scalar.maxsi c0_i32_263 v602
  let v604 : BitVec 32 := Scalar.minsi c1024_i32_264 v603
  let c768_i32_1177 : BitVec 32 := 768#32
  let v1778 : BitVec 32 := Scalar.subi v604 c768_i32_1177
  let v1779 : BitVec 32 := Scalar.maxsi c0_i32_1178 v1778
  let v1780 : BitVec 32 := Scalar.minsi c256_i32_1179 v1779
  let v1805 : BitVec 32 := Scalar.subi v1780 v1777
  let c1_i32_1196 : BitVec 32 := 1#32
  let v1807 : BitVec 32 := Scalar.divsi v1805 c1_i32_1196
  let v1808 : BitVec 32 := Scalar.muli v1807 c1_i32_1196
  let v1809 : BitVec 32 := Scalar.addi v1777 v1808
  let c1_i32_1198 : BitVec 32 := 1#32
  let arg13 : BitVec 32 := Scf.iv v1809 c1_i32_1198 k1_t254
  let v1840 : Index := Scalar.indexCast arg13
  let c48_1210 : Index := 48#32
  ![v1840.toNat, 48]

def k1_chk31_0 (i : grid1.Coords) (v596 : BitVec 32) (v601 : BitVec 32) : Prop :=
  (∀ (k1_h31 : k1_cond31 i v596 v601 = 1#1), (k1_t61_loop i v596 v601).OK) ∧
  (∀ k1_t61 : Fin (k1_t61_loop i v596 v601).trips, ∀ (k1_h31 : k1_cond31 i v596 v601 = 1#1), ∀ a, (k1_off242 i v596 v601 k1_t61) a + S1x16.size a ≤ S256x128.size a) ∧
  (∀ k1_t61 : Fin (k1_t61_loop i v596 v601).trips, ∀ (k1_h31 : k1_cond31 i v596 v601 = 1#1), ∀ a, (k1_off243 i v596 v601 k1_t61) a + S1x16.size a ≤ S256x128.size a) ∧
  (∀ k1_t61 : Fin (k1_t61_loop i v596 v601).trips, ∀ (k1_h31 : k1_cond31 i v596 v601 = 1#1), ∀ a, (k1_off244 i v596 v601 k1_t61) a + S1x16.size a ≤ S256x128.size a) ∧
  (∀ k1_t61 : Fin (k1_t61_loop i v596 v601).trips, ∀ (k1_h31 : k1_cond31 i v596 v601 = 1#1), ∀ a, (k1_off245 i v596 v601 k1_t61) a + S1x16.size a ≤ S256x128.size a) ∧
  (∀ (k1_h31 : k1_cond31 i v596 v601 = 1#1), (k1_t62_loop i v596 v601).OK) ∧
  (∀ k1_t62 : Fin (k1_t62_loop i v596 v601).trips, ∀ (k1_h31 : k1_cond31 i v596 v601 = 1#1), ∀ a, (k1_off246 i v596 v601 k1_t62) a + S1x16.size a ≤ S256x128.size a) ∧
  (∀ k1_t62 : Fin (k1_t62_loop i v596 v601).trips, ∀ (k1_h31 : k1_cond31 i v596 v601 = 1#1), ∀ a, (k1_off247 i v596 v601 k1_t62) a + S1x16.size a ≤ S256x128.size a) ∧
  (∀ k1_t62 : Fin (k1_t62_loop i v596 v601).trips, ∀ (k1_h31 : k1_cond31 i v596 v601 = 1#1), ∀ a, (k1_off248 i v596 v601 k1_t62) a + S1x16.size a ≤ S256x128.size a) ∧
  (∀ k1_t62 : Fin (k1_t62_loop i v596 v601).trips, ∀ (k1_h31 : k1_cond31 i v596 v601 = 1#1), ∀ a, (k1_off249 i v596 v601 k1_t62) a + S1x16.size a ≤ S256x128.size a) ∧
  (∀ (k1_h63 : k1_cond63 i v596 v601 = 1#1), (k1_t125_loop i v596 v601).OK) ∧
  (∀ k1_t125 : Fin (k1_t125_loop i v596 v601).trips, ∀ (k1_h63 : k1_cond63 i v596 v601 = 1#1), ∀ a, (k1_off499 i v596 v601 k1_t125) a + S1x16.size a ≤ S256x128.size a) ∧
  (∀ k1_t125 : Fin (k1_t125_loop i v596 v601).trips, ∀ (k1_h63 : k1_cond63 i v596 v601 = 1#1), ∀ a, (k1_off500 i v596 v601 k1_t125) a + S1x16.size a ≤ S256x128.size a) ∧
  (∀ k1_t125 : Fin (k1_t125_loop i v596 v601).trips, ∀ (k1_h63 : k1_cond63 i v596 v601 = 1#1), ∀ a, (k1_off501 i v596 v601 k1_t125) a + S1x16.size a ≤ S256x128.size a) ∧
  (∀ k1_t125 : Fin (k1_t125_loop i v596 v601).trips, ∀ (k1_h63 : k1_cond63 i v596 v601 = 1#1), ∀ a, (k1_off502 i v596 v601 k1_t125) a + S1x16.size a ≤ S256x128.size a) ∧
  (∀ (k1_h63 : k1_cond63 i v596 v601 = 1#1), (k1_t126_loop i v596 v601).OK) ∧
  (∀ k1_t126 : Fin (k1_t126_loop i v596 v601).trips, ∀ (k1_h63 : k1_cond63 i v596 v601 = 1#1), ∀ a, (k1_off503 i v596 v601 k1_t126) a + S1x16.size a ≤ S256x128.size a) ∧
  (∀ k1_t126 : Fin (k1_t126_loop i v596 v601).trips, ∀ (k1_h63 : k1_cond63 i v596 v601 = 1#1), ∀ a, (k1_off504 i v596 v601 k1_t126) a + S1x16.size a ≤ S256x128.size a) ∧
  (∀ k1_t126 : Fin (k1_t126_loop i v596 v601).trips, ∀ (k1_h63 : k1_cond63 i v596 v601 = 1#1), ∀ a, (k1_off505 i v596 v601 k1_t126) a + S1x16.size a ≤ S256x128.size a) ∧
  (∀ k1_t126 : Fin (k1_t126_loop i v596 v601).trips, ∀ (k1_h63 : k1_cond63 i v596 v601 = 1#1), ∀ a, (k1_off506 i v596 v601 k1_t126) a + S1x16.size a ≤ S256x128.size a) ∧
  (∀ (k1_h95 : k1_cond95 i v596 v601 = 1#1), (k1_t189_loop i v596 v601).OK) ∧
  (∀ k1_t189 : Fin (k1_t189_loop i v596 v601).trips, ∀ (k1_h95 : k1_cond95 i v596 v601 = 1#1), ∀ a, (k1_off755 i v596 v601 k1_t189) a + S1x16.size a ≤ S256x128.size a) ∧
  (∀ k1_t189 : Fin (k1_t189_loop i v596 v601).trips, ∀ (k1_h95 : k1_cond95 i v596 v601 = 1#1), ∀ a, (k1_off756 i v596 v601 k1_t189) a + S1x16.size a ≤ S256x128.size a) ∧
  (∀ k1_t189 : Fin (k1_t189_loop i v596 v601).trips, ∀ (k1_h95 : k1_cond95 i v596 v601 = 1#1), ∀ a, (k1_off757 i v596 v601 k1_t189) a + S1x16.size a ≤ S256x128.size a) ∧
  (∀ k1_t189 : Fin (k1_t189_loop i v596 v601).trips, ∀ (k1_h95 : k1_cond95 i v596 v601 = 1#1), ∀ a, (k1_off758 i v596 v601 k1_t189) a + S1x16.size a ≤ S256x128.size a) ∧
  (∀ (k1_h95 : k1_cond95 i v596 v601 = 1#1), (k1_t190_loop i v596 v601).OK) ∧
  (∀ k1_t190 : Fin (k1_t190_loop i v596 v601).trips, ∀ (k1_h95 : k1_cond95 i v596 v601 = 1#1), ∀ a, (k1_off759 i v596 v601 k1_t190) a + S1x16.size a ≤ S256x128.size a) ∧
  (∀ k1_t190 : Fin (k1_t190_loop i v596 v601).trips, ∀ (k1_h95 : k1_cond95 i v596 v601 = 1#1), ∀ a, (k1_off760 i v596 v601 k1_t190) a + S1x16.size a ≤ S256x128.size a) ∧
  (∀ k1_t190 : Fin (k1_t190_loop i v596 v601).trips, ∀ (k1_h95 : k1_cond95 i v596 v601 = 1#1), ∀ a, (k1_off761 i v596 v601 k1_t190) a + S1x16.size a ≤ S256x128.size a) ∧
  (∀ k1_t190 : Fin (k1_t190_loop i v596 v601).trips, ∀ (k1_h95 : k1_cond95 i v596 v601 = 1#1), ∀ a, (k1_off762 i v596 v601 k1_t190) a + S1x16.size a ≤ S256x128.size a) ∧
  (∀ (k1_h127 : k1_cond127 i v596 v601 = 1#1), (k1_t253_loop i v596 v601).OK) ∧
  (∀ k1_t253 : Fin (k1_t253_loop i v596 v601).trips, ∀ (k1_h127 : k1_cond127 i v596 v601 = 1#1), ∀ a, (k1_off1011 i v596 v601 k1_t253) a + S1x16.size a ≤ S256x128.size a)
def k1_chk31_1 (i : grid1.Coords) (v596 : BitVec 32) (v601 : BitVec 32) : Prop :=
  (∀ k1_t253 : Fin (k1_t253_loop i v596 v601).trips, ∀ (k1_h127 : k1_cond127 i v596 v601 = 1#1), ∀ a, (k1_off1012 i v596 v601 k1_t253) a + S1x16.size a ≤ S256x128.size a) ∧
  (∀ k1_t253 : Fin (k1_t253_loop i v596 v601).trips, ∀ (k1_h127 : k1_cond127 i v596 v601 = 1#1), ∀ a, (k1_off1013 i v596 v601 k1_t253) a + S1x16.size a ≤ S256x128.size a) ∧
  (∀ k1_t253 : Fin (k1_t253_loop i v596 v601).trips, ∀ (k1_h127 : k1_cond127 i v596 v601 = 1#1), ∀ a, (k1_off1014 i v596 v601 k1_t253) a + S1x16.size a ≤ S256x128.size a) ∧
  (∀ (k1_h127 : k1_cond127 i v596 v601 = 1#1), (k1_t254_loop i v596 v601).OK) ∧
  (∀ k1_t254 : Fin (k1_t254_loop i v596 v601).trips, ∀ (k1_h127 : k1_cond127 i v596 v601 = 1#1), ∀ a, (k1_off1015 i v596 v601 k1_t254) a + S1x16.size a ≤ S256x128.size a) ∧
  (∀ k1_t254 : Fin (k1_t254_loop i v596 v601).trips, ∀ (k1_h127 : k1_cond127 i v596 v601 = 1#1), ∀ a, (k1_off1016 i v596 v601 k1_t254) a + S1x16.size a ≤ S256x128.size a) ∧
  (∀ k1_t254 : Fin (k1_t254_loop i v596 v601).trips, ∀ (k1_h127 : k1_cond127 i v596 v601 = 1#1), ∀ a, (k1_off1017 i v596 v601 k1_t254) a + S1x16.size a ≤ S256x128.size a) ∧
  (∀ k1_t254 : Fin (k1_t254_loop i v596 v601).trips, ∀ (k1_h127 : k1_cond127 i v596 v601 = 1#1), ∀ a, (k1_off1018 i v596 v601 k1_t254) a + S1x16.size a ≤ S256x128.size a)
def k1_chk31 (i : grid1.Coords) (v596 : BitVec 32) (v601 : BitVec 32) : Prop :=
  k1_chk31_0 i v596 v601 ∧
  k1_chk31_1 i v596 v601
theorem k1_t61_ok : ∀ (i : grid1.Coords) (v596 : BitVec 32) (v601 : BitVec 32) (k1_hw31 : k1_chk31 i v596 v601), ∀ (k1_h31 : k1_cond31 i v596 v601 = 1#1), (k1_t61_loop i v596 v601).OK := fun i v596 v601 k1_hw31 k1_h31 => k1_hw31.1.1 k1_h31
theorem k1_off242_inb : ∀ (i : grid1.Coords) (v596 : BitVec 32) (v601 : BitVec 32) (k1_hw31 : k1_chk31 i v596 v601) (k1_t61 : Fin (k1_t61_loop i v596 v601).trips), ∀ (k1_h31 : k1_cond31 i v596 v601 = 1#1), ∀ a, (k1_off242 i v596 v601 k1_t61) a + S1x16.size a ≤ S256x128.size a := fun i v596 v601 k1_hw31 k1_t61 k1_h31 => k1_hw31.1.2.1 k1_t61 k1_h31
theorem k1_off243_inb : ∀ (i : grid1.Coords) (v596 : BitVec 32) (v601 : BitVec 32) (k1_hw31 : k1_chk31 i v596 v601) (k1_t61 : Fin (k1_t61_loop i v596 v601).trips), ∀ (k1_h31 : k1_cond31 i v596 v601 = 1#1), ∀ a, (k1_off243 i v596 v601 k1_t61) a + S1x16.size a ≤ S256x128.size a := fun i v596 v601 k1_hw31 k1_t61 k1_h31 => k1_hw31.1.2.2.1 k1_t61 k1_h31
theorem k1_off244_inb : ∀ (i : grid1.Coords) (v596 : BitVec 32) (v601 : BitVec 32) (k1_hw31 : k1_chk31 i v596 v601) (k1_t61 : Fin (k1_t61_loop i v596 v601).trips), ∀ (k1_h31 : k1_cond31 i v596 v601 = 1#1), ∀ a, (k1_off244 i v596 v601 k1_t61) a + S1x16.size a ≤ S256x128.size a := fun i v596 v601 k1_hw31 k1_t61 k1_h31 => k1_hw31.1.2.2.2.1 k1_t61 k1_h31
theorem k1_off245_inb : ∀ (i : grid1.Coords) (v596 : BitVec 32) (v601 : BitVec 32) (k1_hw31 : k1_chk31 i v596 v601) (k1_t61 : Fin (k1_t61_loop i v596 v601).trips), ∀ (k1_h31 : k1_cond31 i v596 v601 = 1#1), ∀ a, (k1_off245 i v596 v601 k1_t61) a + S1x16.size a ≤ S256x128.size a := fun i v596 v601 k1_hw31 k1_t61 k1_h31 => k1_hw31.1.2.2.2.2.1 k1_t61 k1_h31
theorem k1_t62_ok : ∀ (i : grid1.Coords) (v596 : BitVec 32) (v601 : BitVec 32) (k1_hw31 : k1_chk31 i v596 v601), ∀ (k1_h31 : k1_cond31 i v596 v601 = 1#1), (k1_t62_loop i v596 v601).OK := fun i v596 v601 k1_hw31 k1_h31 => k1_hw31.1.2.2.2.2.2.1 k1_h31
theorem k1_off246_inb : ∀ (i : grid1.Coords) (v596 : BitVec 32) (v601 : BitVec 32) (k1_hw31 : k1_chk31 i v596 v601) (k1_t62 : Fin (k1_t62_loop i v596 v601).trips), ∀ (k1_h31 : k1_cond31 i v596 v601 = 1#1), ∀ a, (k1_off246 i v596 v601 k1_t62) a + S1x16.size a ≤ S256x128.size a := fun i v596 v601 k1_hw31 k1_t62 k1_h31 => k1_hw31.1.2.2.2.2.2.2.1 k1_t62 k1_h31
theorem k1_off247_inb : ∀ (i : grid1.Coords) (v596 : BitVec 32) (v601 : BitVec 32) (k1_hw31 : k1_chk31 i v596 v601) (k1_t62 : Fin (k1_t62_loop i v596 v601).trips), ∀ (k1_h31 : k1_cond31 i v596 v601 = 1#1), ∀ a, (k1_off247 i v596 v601 k1_t62) a + S1x16.size a ≤ S256x128.size a := fun i v596 v601 k1_hw31 k1_t62 k1_h31 => k1_hw31.1.2.2.2.2.2.2.2.1 k1_t62 k1_h31
theorem k1_off248_inb : ∀ (i : grid1.Coords) (v596 : BitVec 32) (v601 : BitVec 32) (k1_hw31 : k1_chk31 i v596 v601) (k1_t62 : Fin (k1_t62_loop i v596 v601).trips), ∀ (k1_h31 : k1_cond31 i v596 v601 = 1#1), ∀ a, (k1_off248 i v596 v601 k1_t62) a + S1x16.size a ≤ S256x128.size a := fun i v596 v601 k1_hw31 k1_t62 k1_h31 => k1_hw31.1.2.2.2.2.2.2.2.2.1 k1_t62 k1_h31
theorem k1_off249_inb : ∀ (i : grid1.Coords) (v596 : BitVec 32) (v601 : BitVec 32) (k1_hw31 : k1_chk31 i v596 v601) (k1_t62 : Fin (k1_t62_loop i v596 v601).trips), ∀ (k1_h31 : k1_cond31 i v596 v601 = 1#1), ∀ a, (k1_off249 i v596 v601 k1_t62) a + S1x16.size a ≤ S256x128.size a := fun i v596 v601 k1_hw31 k1_t62 k1_h31 => k1_hw31.1.2.2.2.2.2.2.2.2.2.1 k1_t62 k1_h31
theorem k1_t125_ok : ∀ (i : grid1.Coords) (v596 : BitVec 32) (v601 : BitVec 32) (k1_hw31 : k1_chk31 i v596 v601), ∀ (k1_h63 : k1_cond63 i v596 v601 = 1#1), (k1_t125_loop i v596 v601).OK := fun i v596 v601 k1_hw31 k1_h63 => k1_hw31.1.2.2.2.2.2.2.2.2.2.2.1 k1_h63
theorem k1_off499_inb : ∀ (i : grid1.Coords) (v596 : BitVec 32) (v601 : BitVec 32) (k1_hw31 : k1_chk31 i v596 v601) (k1_t125 : Fin (k1_t125_loop i v596 v601).trips), ∀ (k1_h63 : k1_cond63 i v596 v601 = 1#1), ∀ a, (k1_off499 i v596 v601 k1_t125) a + S1x16.size a ≤ S256x128.size a := fun i v596 v601 k1_hw31 k1_t125 k1_h63 => k1_hw31.1.2.2.2.2.2.2.2.2.2.2.2.1 k1_t125 k1_h63
theorem k1_off500_inb : ∀ (i : grid1.Coords) (v596 : BitVec 32) (v601 : BitVec 32) (k1_hw31 : k1_chk31 i v596 v601) (k1_t125 : Fin (k1_t125_loop i v596 v601).trips), ∀ (k1_h63 : k1_cond63 i v596 v601 = 1#1), ∀ a, (k1_off500 i v596 v601 k1_t125) a + S1x16.size a ≤ S256x128.size a := fun i v596 v601 k1_hw31 k1_t125 k1_h63 => k1_hw31.1.2.2.2.2.2.2.2.2.2.2.2.2.1 k1_t125 k1_h63
theorem k1_off501_inb : ∀ (i : grid1.Coords) (v596 : BitVec 32) (v601 : BitVec 32) (k1_hw31 : k1_chk31 i v596 v601) (k1_t125 : Fin (k1_t125_loop i v596 v601).trips), ∀ (k1_h63 : k1_cond63 i v596 v601 = 1#1), ∀ a, (k1_off501 i v596 v601 k1_t125) a + S1x16.size a ≤ S256x128.size a := fun i v596 v601 k1_hw31 k1_t125 k1_h63 => k1_hw31.1.2.2.2.2.2.2.2.2.2.2.2.2.2.1 k1_t125 k1_h63
theorem k1_off502_inb : ∀ (i : grid1.Coords) (v596 : BitVec 32) (v601 : BitVec 32) (k1_hw31 : k1_chk31 i v596 v601) (k1_t125 : Fin (k1_t125_loop i v596 v601).trips), ∀ (k1_h63 : k1_cond63 i v596 v601 = 1#1), ∀ a, (k1_off502 i v596 v601 k1_t125) a + S1x16.size a ≤ S256x128.size a := fun i v596 v601 k1_hw31 k1_t125 k1_h63 => k1_hw31.1.2.2.2.2.2.2.2.2.2.2.2.2.2.2.1 k1_t125 k1_h63
theorem k1_t126_ok : ∀ (i : grid1.Coords) (v596 : BitVec 32) (v601 : BitVec 32) (k1_hw31 : k1_chk31 i v596 v601), ∀ (k1_h63 : k1_cond63 i v596 v601 = 1#1), (k1_t126_loop i v596 v601).OK := fun i v596 v601 k1_hw31 k1_h63 => k1_hw31.1.2.2.2.2.2.2.2.2.2.2.2.2.2.2.2.1 k1_h63
theorem k1_off503_inb : ∀ (i : grid1.Coords) (v596 : BitVec 32) (v601 : BitVec 32) (k1_hw31 : k1_chk31 i v596 v601) (k1_t126 : Fin (k1_t126_loop i v596 v601).trips), ∀ (k1_h63 : k1_cond63 i v596 v601 = 1#1), ∀ a, (k1_off503 i v596 v601 k1_t126) a + S1x16.size a ≤ S256x128.size a := fun i v596 v601 k1_hw31 k1_t126 k1_h63 => k1_hw31.1.2.2.2.2.2.2.2.2.2.2.2.2.2.2.2.2.1 k1_t126 k1_h63
theorem k1_off504_inb : ∀ (i : grid1.Coords) (v596 : BitVec 32) (v601 : BitVec 32) (k1_hw31 : k1_chk31 i v596 v601) (k1_t126 : Fin (k1_t126_loop i v596 v601).trips), ∀ (k1_h63 : k1_cond63 i v596 v601 = 1#1), ∀ a, (k1_off504 i v596 v601 k1_t126) a + S1x16.size a ≤ S256x128.size a := fun i v596 v601 k1_hw31 k1_t126 k1_h63 => k1_hw31.1.2.2.2.2.2.2.2.2.2.2.2.2.2.2.2.2.2.1 k1_t126 k1_h63
theorem k1_off505_inb : ∀ (i : grid1.Coords) (v596 : BitVec 32) (v601 : BitVec 32) (k1_hw31 : k1_chk31 i v596 v601) (k1_t126 : Fin (k1_t126_loop i v596 v601).trips), ∀ (k1_h63 : k1_cond63 i v596 v601 = 1#1), ∀ a, (k1_off505 i v596 v601 k1_t126) a + S1x16.size a ≤ S256x128.size a := fun i v596 v601 k1_hw31 k1_t126 k1_h63 => k1_hw31.1.2.2.2.2.2.2.2.2.2.2.2.2.2.2.2.2.2.2.1 k1_t126 k1_h63
theorem k1_off506_inb : ∀ (i : grid1.Coords) (v596 : BitVec 32) (v601 : BitVec 32) (k1_hw31 : k1_chk31 i v596 v601) (k1_t126 : Fin (k1_t126_loop i v596 v601).trips), ∀ (k1_h63 : k1_cond63 i v596 v601 = 1#1), ∀ a, (k1_off506 i v596 v601 k1_t126) a + S1x16.size a ≤ S256x128.size a := fun i v596 v601 k1_hw31 k1_t126 k1_h63 => k1_hw31.1.2.2.2.2.2.2.2.2.2.2.2.2.2.2.2.2.2.2.2.1 k1_t126 k1_h63
theorem k1_t189_ok : ∀ (i : grid1.Coords) (v596 : BitVec 32) (v601 : BitVec 32) (k1_hw31 : k1_chk31 i v596 v601), ∀ (k1_h95 : k1_cond95 i v596 v601 = 1#1), (k1_t189_loop i v596 v601).OK := fun i v596 v601 k1_hw31 k1_h95 => k1_hw31.1.2.2.2.2.2.2.2.2.2.2.2.2.2.2.2.2.2.2.2.2.1 k1_h95
theorem k1_off755_inb : ∀ (i : grid1.Coords) (v596 : BitVec 32) (v601 : BitVec 32) (k1_hw31 : k1_chk31 i v596 v601) (k1_t189 : Fin (k1_t189_loop i v596 v601).trips), ∀ (k1_h95 : k1_cond95 i v596 v601 = 1#1), ∀ a, (k1_off755 i v596 v601 k1_t189) a + S1x16.size a ≤ S256x128.size a := fun i v596 v601 k1_hw31 k1_t189 k1_h95 => k1_hw31.1.2.2.2.2.2.2.2.2.2.2.2.2.2.2.2.2.2.2.2.2.2.1 k1_t189 k1_h95
theorem k1_off756_inb : ∀ (i : grid1.Coords) (v596 : BitVec 32) (v601 : BitVec 32) (k1_hw31 : k1_chk31 i v596 v601) (k1_t189 : Fin (k1_t189_loop i v596 v601).trips), ∀ (k1_h95 : k1_cond95 i v596 v601 = 1#1), ∀ a, (k1_off756 i v596 v601 k1_t189) a + S1x16.size a ≤ S256x128.size a := fun i v596 v601 k1_hw31 k1_t189 k1_h95 => k1_hw31.1.2.2.2.2.2.2.2.2.2.2.2.2.2.2.2.2.2.2.2.2.2.2.1 k1_t189 k1_h95
theorem k1_off757_inb : ∀ (i : grid1.Coords) (v596 : BitVec 32) (v601 : BitVec 32) (k1_hw31 : k1_chk31 i v596 v601) (k1_t189 : Fin (k1_t189_loop i v596 v601).trips), ∀ (k1_h95 : k1_cond95 i v596 v601 = 1#1), ∀ a, (k1_off757 i v596 v601 k1_t189) a + S1x16.size a ≤ S256x128.size a := fun i v596 v601 k1_hw31 k1_t189 k1_h95 => k1_hw31.1.2.2.2.2.2.2.2.2.2.2.2.2.2.2.2.2.2.2.2.2.2.2.2.1 k1_t189 k1_h95
theorem k1_off758_inb : ∀ (i : grid1.Coords) (v596 : BitVec 32) (v601 : BitVec 32) (k1_hw31 : k1_chk31 i v596 v601) (k1_t189 : Fin (k1_t189_loop i v596 v601).trips), ∀ (k1_h95 : k1_cond95 i v596 v601 = 1#1), ∀ a, (k1_off758 i v596 v601 k1_t189) a + S1x16.size a ≤ S256x128.size a := fun i v596 v601 k1_hw31 k1_t189 k1_h95 => k1_hw31.1.2.2.2.2.2.2.2.2.2.2.2.2.2.2.2.2.2.2.2.2.2.2.2.2.1 k1_t189 k1_h95
theorem k1_t190_ok : ∀ (i : grid1.Coords) (v596 : BitVec 32) (v601 : BitVec 32) (k1_hw31 : k1_chk31 i v596 v601), ∀ (k1_h95 : k1_cond95 i v596 v601 = 1#1), (k1_t190_loop i v596 v601).OK := fun i v596 v601 k1_hw31 k1_h95 => k1_hw31.1.2.2.2.2.2.2.2.2.2.2.2.2.2.2.2.2.2.2.2.2.2.2.2.2.2.1 k1_h95
theorem k1_off759_inb : ∀ (i : grid1.Coords) (v596 : BitVec 32) (v601 : BitVec 32) (k1_hw31 : k1_chk31 i v596 v601) (k1_t190 : Fin (k1_t190_loop i v596 v601).trips), ∀ (k1_h95 : k1_cond95 i v596 v601 = 1#1), ∀ a, (k1_off759 i v596 v601 k1_t190) a + S1x16.size a ≤ S256x128.size a := fun i v596 v601 k1_hw31 k1_t190 k1_h95 => k1_hw31.1.2.2.2.2.2.2.2.2.2.2.2.2.2.2.2.2.2.2.2.2.2.2.2.2.2.2.1 k1_t190 k1_h95
theorem k1_off760_inb : ∀ (i : grid1.Coords) (v596 : BitVec 32) (v601 : BitVec 32) (k1_hw31 : k1_chk31 i v596 v601) (k1_t190 : Fin (k1_t190_loop i v596 v601).trips), ∀ (k1_h95 : k1_cond95 i v596 v601 = 1#1), ∀ a, (k1_off760 i v596 v601 k1_t190) a + S1x16.size a ≤ S256x128.size a := fun i v596 v601 k1_hw31 k1_t190 k1_h95 => k1_hw31.1.2.2.2.2.2.2.2.2.2.2.2.2.2.2.2.2.2.2.2.2.2.2.2.2.2.2.2.1 k1_t190 k1_h95
theorem k1_off761_inb : ∀ (i : grid1.Coords) (v596 : BitVec 32) (v601 : BitVec 32) (k1_hw31 : k1_chk31 i v596 v601) (k1_t190 : Fin (k1_t190_loop i v596 v601).trips), ∀ (k1_h95 : k1_cond95 i v596 v601 = 1#1), ∀ a, (k1_off761 i v596 v601 k1_t190) a + S1x16.size a ≤ S256x128.size a := fun i v596 v601 k1_hw31 k1_t190 k1_h95 => k1_hw31.1.2.2.2.2.2.2.2.2.2.2.2.2.2.2.2.2.2.2.2.2.2.2.2.2.2.2.2.2.1 k1_t190 k1_h95
theorem k1_off762_inb : ∀ (i : grid1.Coords) (v596 : BitVec 32) (v601 : BitVec 32) (k1_hw31 : k1_chk31 i v596 v601) (k1_t190 : Fin (k1_t190_loop i v596 v601).trips), ∀ (k1_h95 : k1_cond95 i v596 v601 = 1#1), ∀ a, (k1_off762 i v596 v601 k1_t190) a + S1x16.size a ≤ S256x128.size a := fun i v596 v601 k1_hw31 k1_t190 k1_h95 => k1_hw31.1.2.2.2.2.2.2.2.2.2.2.2.2.2.2.2.2.2.2.2.2.2.2.2.2.2.2.2.2.2.1 k1_t190 k1_h95
theorem k1_t253_ok : ∀ (i : grid1.Coords) (v596 : BitVec 32) (v601 : BitVec 32) (k1_hw31 : k1_chk31 i v596 v601), ∀ (k1_h127 : k1_cond127 i v596 v601 = 1#1), (k1_t253_loop i v596 v601).OK := fun i v596 v601 k1_hw31 k1_h127 => k1_hw31.1.2.2.2.2.2.2.2.2.2.2.2.2.2.2.2.2.2.2.2.2.2.2.2.2.2.2.2.2.2.2.1 k1_h127
theorem k1_off1011_inb : ∀ (i : grid1.Coords) (v596 : BitVec 32) (v601 : BitVec 32) (k1_hw31 : k1_chk31 i v596 v601) (k1_t253 : Fin (k1_t253_loop i v596 v601).trips), ∀ (k1_h127 : k1_cond127 i v596 v601 = 1#1), ∀ a, (k1_off1011 i v596 v601 k1_t253) a + S1x16.size a ≤ S256x128.size a := fun i v596 v601 k1_hw31 k1_t253 k1_h127 => k1_hw31.1.2.2.2.2.2.2.2.2.2.2.2.2.2.2.2.2.2.2.2.2.2.2.2.2.2.2.2.2.2.2.2 k1_t253 k1_h127
theorem k1_off1012_inb : ∀ (i : grid1.Coords) (v596 : BitVec 32) (v601 : BitVec 32) (k1_hw31 : k1_chk31 i v596 v601) (k1_t253 : Fin (k1_t253_loop i v596 v601).trips), ∀ (k1_h127 : k1_cond127 i v596 v601 = 1#1), ∀ a, (k1_off1012 i v596 v601 k1_t253) a + S1x16.size a ≤ S256x128.size a := fun i v596 v601 k1_hw31 k1_t253 k1_h127 => k1_hw31.2.1 k1_t253 k1_h127
theorem k1_off1013_inb : ∀ (i : grid1.Coords) (v596 : BitVec 32) (v601 : BitVec 32) (k1_hw31 : k1_chk31 i v596 v601) (k1_t253 : Fin (k1_t253_loop i v596 v601).trips), ∀ (k1_h127 : k1_cond127 i v596 v601 = 1#1), ∀ a, (k1_off1013 i v596 v601 k1_t253) a + S1x16.size a ≤ S256x128.size a := fun i v596 v601 k1_hw31 k1_t253 k1_h127 => k1_hw31.2.2.1 k1_t253 k1_h127
theorem k1_off1014_inb : ∀ (i : grid1.Coords) (v596 : BitVec 32) (v601 : BitVec 32) (k1_hw31 : k1_chk31 i v596 v601) (k1_t253 : Fin (k1_t253_loop i v596 v601).trips), ∀ (k1_h127 : k1_cond127 i v596 v601 = 1#1), ∀ a, (k1_off1014 i v596 v601 k1_t253) a + S1x16.size a ≤ S256x128.size a := fun i v596 v601 k1_hw31 k1_t253 k1_h127 => k1_hw31.2.2.2.1 k1_t253 k1_h127
theorem k1_t254_ok : ∀ (i : grid1.Coords) (v596 : BitVec 32) (v601 : BitVec 32) (k1_hw31 : k1_chk31 i v596 v601), ∀ (k1_h127 : k1_cond127 i v596 v601 = 1#1), (k1_t254_loop i v596 v601).OK := fun i v596 v601 k1_hw31 k1_h127 => k1_hw31.2.2.2.2.1 k1_h127
theorem k1_off1015_inb : ∀ (i : grid1.Coords) (v596 : BitVec 32) (v601 : BitVec 32) (k1_hw31 : k1_chk31 i v596 v601) (k1_t254 : Fin (k1_t254_loop i v596 v601).trips), ∀ (k1_h127 : k1_cond127 i v596 v601 = 1#1), ∀ a, (k1_off1015 i v596 v601 k1_t254) a + S1x16.size a ≤ S256x128.size a := fun i v596 v601 k1_hw31 k1_t254 k1_h127 => k1_hw31.2.2.2.2.2.1 k1_t254 k1_h127
theorem k1_off1016_inb : ∀ (i : grid1.Coords) (v596 : BitVec 32) (v601 : BitVec 32) (k1_hw31 : k1_chk31 i v596 v601) (k1_t254 : Fin (k1_t254_loop i v596 v601).trips), ∀ (k1_h127 : k1_cond127 i v596 v601 = 1#1), ∀ a, (k1_off1016 i v596 v601 k1_t254) a + S1x16.size a ≤ S256x128.size a := fun i v596 v601 k1_hw31 k1_t254 k1_h127 => k1_hw31.2.2.2.2.2.2.1 k1_t254 k1_h127
theorem k1_off1017_inb : ∀ (i : grid1.Coords) (v596 : BitVec 32) (v601 : BitVec 32) (k1_hw31 : k1_chk31 i v596 v601) (k1_t254 : Fin (k1_t254_loop i v596 v601).trips), ∀ (k1_h127 : k1_cond127 i v596 v601 = 1#1), ∀ a, (k1_off1017 i v596 v601 k1_t254) a + S1x16.size a ≤ S256x128.size a := fun i v596 v601 k1_hw31 k1_t254 k1_h127 => k1_hw31.2.2.2.2.2.2.2.1 k1_t254 k1_h127
theorem k1_off1018_inb : ∀ (i : grid1.Coords) (v596 : BitVec 32) (v601 : BitVec 32) (k1_hw31 : k1_chk31 i v596 v601) (k1_t254 : Fin (k1_t254_loop i v596 v601).trips), ∀ (k1_h127 : k1_cond127 i v596 v601 = 1#1), ∀ a, (k1_off1018 i v596 v601 k1_t254) a + S1x16.size a ≤ S256x128.size a := fun i v596 v601 k1_hw31 k1_t254 k1_h127 => k1_hw31.2.2.2.2.2.2.2.2 k1_t254 k1_h127

@[reducible] def k1_t255_loop (i : grid1.Coords) (v606 : BitVec 32) (v612 : BitVec 32) : Scf.Loop 32 :=
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let c256_i32_1186 : BitVec 32 := 256#32
  let c0_i32_1185 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c768_i32_1184 : BitVec 32 := 768#32
  let v1787 : BitVec 32 := Scalar.subi v616 c768_i32_1184
  let v1788 : BitVec 32 := Scalar.maxsi c0_i32_1185 v1787
  let v1789 : BitVec 32 := Scalar.minsi c256_i32_1186 v1788
  let v1805 : BitVec 32 := Scalar.subi v1789 v1786
  let c1_i32_1196 : BitVec 32 := 1#32
  let v1807 : BitVec 32 := Scalar.divsi v1805 c1_i32_1196
  let v1808 : BitVec 32 := Scalar.muli v1807 c1_i32_1196
  let v1809 : BitVec 32 := Scalar.addi v1786 v1808
  let c1_i32_1197 : BitVec 32 := 1#32
  ⟨v1786, v1809, c1_i32_1197⟩
def k1_cond128 (i : grid1.Coords) (v606 : BitVec 32) (v612 : BitVec 32) : BitVec 1 :=
  let c256_i32_1186 : BitVec 32 := 256#32
  let c0_i32_1185 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v614 : BitVec 32 := Scalar.subi v613 v3
  let v615 : BitVec 32 := Scalar.maxsi c0_i32_269 v614
  let v616 : BitVec 32 := Scalar.minsi c1024_i32_270 v615
  let c768_i32_1184 : BitVec 32 := 768#32
  let v1787 : BitVec 32 := Scalar.subi v616 c768_i32_1184
  let v1788 : BitVec 32 := Scalar.maxsi c0_i32_1185 v1787
  let v1789 : BitVec 32 := Scalar.minsi c256_i32_1186 v1788
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let v1790 : BitVec 1 := Scalar.cmpi .sgt v1789 v1786
  let v1791 : BitVec 32 := Scalar.extui v1790
  let c0_i32_1187 : BitVec 32 := 0#32
  let v1792 : BitVec 1 := Scalar.cmpi .ne v1791 c0_i32_1187
  v1792

def k1_off1019 (i : grid1.Coords) (v606 : BitVec 32) (v612 : BitVec 32) (k1_t255 : Fin (k1_t255_loop i v606 v612).trips) : Fin 2 → Nat :=
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let c1_i32_1197 : BitVec 32 := 1#32
  let arg13 : BitVec 32 := Scf.iv v1786 c1_i32_1197 k1_t255
  let v1828 : Index := Scalar.indexCast arg13
  let c64 : Index := 64#32
  ![v1828.toNat, 64]
def k1_off1020 (i : grid1.Coords) (v606 : BitVec 32) (v612 : BitVec 32) (k1_t255 : Fin (k1_t255_loop i v606 v612).trips) : Fin 2 → Nat :=
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let c1_i32_1197 : BitVec 32 := 1#32
  let arg13 : BitVec 32 := Scf.iv v1786 c1_i32_1197 k1_t255
  let v1832 : Index := Scalar.indexCast arg13
  let c80 : Index := 80#32
  ![v1832.toNat, 80]
def k1_off1021 (i : grid1.Coords) (v606 : BitVec 32) (v612 : BitVec 32) (k1_t255 : Fin (k1_t255_loop i v606 v612).trips) : Fin 2 → Nat :=
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let c1_i32_1197 : BitVec 32 := 1#32
  let arg13 : BitVec 32 := Scf.iv v1786 c1_i32_1197 k1_t255
  let v1836 : Index := Scalar.indexCast arg13
  let c96 : Index := 96#32
  ![v1836.toNat, 96]
def k1_off1022 (i : grid1.Coords) (v606 : BitVec 32) (v612 : BitVec 32) (k1_t255 : Fin (k1_t255_loop i v606 v612).trips) : Fin 2 → Nat :=
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let c1_i32_1197 : BitVec 32 := 1#32
  let arg13 : BitVec 32 := Scf.iv v1786 c1_i32_1197 k1_t255
  let v1840 : Index := Scalar.indexCast arg13
  let c112 : Index := 112#32
  ![v1840.toNat, 112]
@[reducible] def k1_t256_loop (i : grid1.Coords) (v606 : BitVec 32) (v612 : BitVec 32) : Scf.Loop 32 :=
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let c256_i32_1186 : BitVec 32 := 256#32
  let c0_i32_1185 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c768_i32_1184 : BitVec 32 := 768#32
  let v1787 : BitVec 32 := Scalar.subi v616 c768_i32_1184
  let v1788 : BitVec 32 := Scalar.maxsi c0_i32_1185 v1787
  let v1789 : BitVec 32 := Scalar.minsi c256_i32_1186 v1788
  let v1805 : BitVec 32 := Scalar.subi v1789 v1786
  let c1_i32_1196 : BitVec 32 := 1#32
  let v1807 : BitVec 32 := Scalar.divsi v1805 c1_i32_1196
  let v1808 : BitVec 32 := Scalar.muli v1807 c1_i32_1196
  let v1809 : BitVec 32 := Scalar.addi v1786 v1808
  let v1806 : BitVec 32 := Scalar.addi v1786 v1805
  let c1_i32_1198 : BitVec 32 := 1#32
  ⟨v1809, v1806, c1_i32_1198⟩
def k1_off1023 (i : grid1.Coords) (v606 : BitVec 32) (v612 : BitVec 32) (k1_t256 : Fin (k1_t256_loop i v606 v612).trips) : Fin 2 → Nat :=
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let c256_i32_1186 : BitVec 32 := 256#32
  let c0_i32_1185 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c768_i32_1184 : BitVec 32 := 768#32
  let v1787 : BitVec 32 := Scalar.subi v616 c768_i32_1184
  let v1788 : BitVec 32 := Scalar.maxsi c0_i32_1185 v1787
  let v1789 : BitVec 32 := Scalar.minsi c256_i32_1186 v1788
  let v1805 : BitVec 32 := Scalar.subi v1789 v1786
  let c1_i32_1196 : BitVec 32 := 1#32
  let v1807 : BitVec 32 := Scalar.divsi v1805 c1_i32_1196
  let v1808 : BitVec 32 := Scalar.muli v1807 c1_i32_1196
  let v1809 : BitVec 32 := Scalar.addi v1786 v1808
  let c1_i32_1198 : BitVec 32 := 1#32
  let arg13 : BitVec 32 := Scf.iv v1809 c1_i32_1198 k1_t256
  let v1828 : Index := Scalar.indexCast arg13
  let c64 : Index := 64#32
  ![v1828.toNat, 64]
def k1_off1024 (i : grid1.Coords) (v606 : BitVec 32) (v612 : BitVec 32) (k1_t256 : Fin (k1_t256_loop i v606 v612).trips) : Fin 2 → Nat :=
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let c256_i32_1186 : BitVec 32 := 256#32
  let c0_i32_1185 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c768_i32_1184 : BitVec 32 := 768#32
  let v1787 : BitVec 32 := Scalar.subi v616 c768_i32_1184
  let v1788 : BitVec 32 := Scalar.maxsi c0_i32_1185 v1787
  let v1789 : BitVec 32 := Scalar.minsi c256_i32_1186 v1788
  let v1805 : BitVec 32 := Scalar.subi v1789 v1786
  let c1_i32_1196 : BitVec 32 := 1#32
  let v1807 : BitVec 32 := Scalar.divsi v1805 c1_i32_1196
  let v1808 : BitVec 32 := Scalar.muli v1807 c1_i32_1196
  let v1809 : BitVec 32 := Scalar.addi v1786 v1808
  let c1_i32_1198 : BitVec 32 := 1#32
  let arg13 : BitVec 32 := Scf.iv v1809 c1_i32_1198 k1_t256
  let v1832 : Index := Scalar.indexCast arg13
  let c80 : Index := 80#32
  ![v1832.toNat, 80]
def k1_off1025 (i : grid1.Coords) (v606 : BitVec 32) (v612 : BitVec 32) (k1_t256 : Fin (k1_t256_loop i v606 v612).trips) : Fin 2 → Nat :=
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let c256_i32_1186 : BitVec 32 := 256#32
  let c0_i32_1185 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c768_i32_1184 : BitVec 32 := 768#32
  let v1787 : BitVec 32 := Scalar.subi v616 c768_i32_1184
  let v1788 : BitVec 32 := Scalar.maxsi c0_i32_1185 v1787
  let v1789 : BitVec 32 := Scalar.minsi c256_i32_1186 v1788
  let v1805 : BitVec 32 := Scalar.subi v1789 v1786
  let c1_i32_1196 : BitVec 32 := 1#32
  let v1807 : BitVec 32 := Scalar.divsi v1805 c1_i32_1196
  let v1808 : BitVec 32 := Scalar.muli v1807 c1_i32_1196
  let v1809 : BitVec 32 := Scalar.addi v1786 v1808
  let c1_i32_1198 : BitVec 32 := 1#32
  let arg13 : BitVec 32 := Scf.iv v1809 c1_i32_1198 k1_t256
  let v1836 : Index := Scalar.indexCast arg13
  let c96 : Index := 96#32
  ![v1836.toNat, 96]
def k1_off1026 (i : grid1.Coords) (v606 : BitVec 32) (v612 : BitVec 32) (k1_t256 : Fin (k1_t256_loop i v606 v612).trips) : Fin 2 → Nat :=
  let c256_i32_1183 : BitVec 32 := 256#32
  let c0_i32_1182 : BitVec 32 := 0#32
  let c1024_i32_267 : BitVec 32 := 1024#32
  let c0_i32_266 : BitVec 32 := 0#32
  let c65536_i32_265 : BitVec 32 := 65536#32
  let v607 : BitVec 32 := Scalar.subi v606 c65536_i32_265
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c0_i32 v2
  let v608 : BitVec 32 := Scalar.subi v607 v3
  let v609 : BitVec 32 := Scalar.maxsi c0_i32_266 v608
  let v610 : BitVec 32 := Scalar.minsi c1024_i32_267 v609
  let c768_i32_1181 : BitVec 32 := 768#32
  let v1784 : BitVec 32 := Scalar.subi v610 c768_i32_1181
  let v1785 : BitVec 32 := Scalar.maxsi c0_i32_1182 v1784
  let v1786 : BitVec 32 := Scalar.minsi c256_i32_1183 v1785
  let c256_i32_1186 : BitVec 32 := 256#32
  let c0_i32_1185 : BitVec 32 := 0#32
  let c1024_i32_270 : BitVec 32 := 1024#32
  let c0_i32_269 : BitVec 32 := 0#32
  let c65536_i32_268 : BitVec 32 := 65536#32
  let v613 : BitVec 32 := Scalar.subi v612 c65536_i32_268
  let v614 : BitVec 32 := Scalar.subi v613 v3
  let v615 : BitVec 32 := Scalar.maxsi c0_i32_269 v614
  let v616 : BitVec 32 := Scalar.minsi c1024_i32_270 v615
  let c768_i32_1184 : BitVec 32 := 768#32
  let v1787 : BitVec 32 := Scalar.subi v616 c768_i32_1184
  let v1788 : BitVec 32 := Scalar.maxsi c0_i32_1185 v1787
  let v1789 : BitVec 32 := Scalar.minsi c256_i32_1186 v1788
  let v1805 : BitVec 32 := Scalar.subi v1789 v1786
  let c1_i32_1196 : BitVec 32 := 1#32
  let v1807 : BitVec 32 := Scalar.divsi v1805 c1_i32_1196
  let v1808 : BitVec 32 := Scalar.muli v1807 c1_i32_1196
  let v1809 : BitVec 32 := Scalar.addi v1786 v1808
  let c1_i32_1198 : BitVec 32 := 1#32
  let arg13 : BitVec 32 := Scf.iv v1809 c1_i32_1198 k1_t256
  let v1840 : Index := Scalar.indexCast arg13
  let c112 : Index := 112#32
  ![v1840.toNat, 112]

def k1_chk32_0 (i : grid1.Coords) (v606 : BitVec 32) (v612 : BitVec 32) : Prop :=
  (∀ (k1_h32 : k1_cond32 i v606 v612 = 1#1), (k1_t63_loop i v606 v612).OK) ∧
  (∀ k1_t63 : Fin (k1_t63_loop i v606 v612).trips, ∀ (k1_h32 : k1_cond32 i v606 v612 = 1#1), ∀ a, (k1_off250 i v606 v612 k1_t63) a + S1x16.size a ≤ S256x128.size a) ∧
  (∀ k1_t63 : Fin (k1_t63_loop i v606 v612).trips, ∀ (k1_h32 : k1_cond32 i v606 v612 = 1#1), ∀ a, (k1_off251 i v606 v612 k1_t63) a + S1x16.size a ≤ S256x128.size a) ∧
  (∀ k1_t63 : Fin (k1_t63_loop i v606 v612).trips, ∀ (k1_h32 : k1_cond32 i v606 v612 = 1#1), ∀ a, (k1_off252 i v606 v612 k1_t63) a + S1x16.size a ≤ S256x128.size a) ∧
  (∀ k1_t63 : Fin (k1_t63_loop i v606 v612).trips, ∀ (k1_h32 : k1_cond32 i v606 v612 = 1#1), ∀ a, (k1_off253 i v606 v612 k1_t63) a + S1x16.size a ≤ S256x128.size a) ∧
  (∀ (k1_h32 : k1_cond32 i v606 v612 = 1#1), (k1_t64_loop i v606 v612).OK) ∧
  (∀ k1_t64 : Fin (k1_t64_loop i v606 v612).trips, ∀ (k1_h32 : k1_cond32 i v606 v612 = 1#1), ∀ a, (k1_off254 i v606 v612 k1_t64) a + S1x16.size a ≤ S256x128.size a) ∧
  (∀ k1_t64 : Fin (k1_t64_loop i v606 v612).trips, ∀ (k1_h32 : k1_cond32 i v606 v612 = 1#1), ∀ a, (k1_off255 i v606 v612 k1_t64) a + S1x16.size a ≤ S256x128.size a) ∧
  (∀ k1_t64 : Fin (k1_t64_loop i v606 v612).trips, ∀ (k1_h32 : k1_cond32 i v606 v612 = 1#1), ∀ a, (k1_off256 i v606 v612 k1_t64) a + S1x16.size a ≤ S256x128.size a) ∧
  (∀ k1_t64 : Fin (k1_t64_loop i v606 v612).trips, ∀ (k1_h32 : k1_cond32 i v606 v612 = 1#1), ∀ a, (k1_off257 i v606 v612 k1_t64) a + S1x16.size a ≤ S256x128.size a) ∧
  (∀ (k1_h64 : k1_cond64 i v606 v612 = 1#1), (k1_t127_loop i v606 v612).OK) ∧
  (∀ k1_t127 : Fin (k1_t127_loop i v606 v612).trips, ∀ (k1_h64 : k1_cond64 i v606 v612 = 1#1), ∀ a, (k1_off507 i v606 v612 k1_t127) a + S1x16.size a ≤ S256x128.size a) ∧
  (∀ k1_t127 : Fin (k1_t127_loop i v606 v612).trips, ∀ (k1_h64 : k1_cond64 i v606 v612 = 1#1), ∀ a, (k1_off508 i v606 v612 k1_t127) a + S1x16.size a ≤ S256x128.size a) ∧
  (∀ k1_t127 : Fin (k1_t127_loop i v606 v612).trips, ∀ (k1_h64 : k1_cond64 i v606 v612 = 1#1), ∀ a, (k1_off509 i v606 v612 k1_t127) a + S1x16.size a ≤ S256x128.size a) ∧
  (∀ k1_t127 : Fin (k1_t127_loop i v606 v612).trips, ∀ (k1_h64 : k1_cond64 i v606 v612 = 1#1), ∀ a, (k1_off510 i v606 v612 k1_t127) a + S1x16.size a ≤ S256x128.size a) ∧
  (∀ (k1_h64 : k1_cond64 i v606 v612 = 1#1), (k1_t128_loop i v606 v612).OK) ∧
  (∀ k1_t128 : Fin (k1_t128_loop i v606 v612).trips, ∀ (k1_h64 : k1_cond64 i v606 v612 = 1#1), ∀ a, (k1_off511 i v606 v612 k1_t128) a + S1x16.size a ≤ S256x128.size a) ∧
  (∀ k1_t128 : Fin (k1_t128_loop i v606 v612).trips, ∀ (k1_h64 : k1_cond64 i v606 v612 = 1#1), ∀ a, (k1_off512 i v606 v612 k1_t128) a + S1x16.size a ≤ S256x128.size a) ∧
  (∀ k1_t128 : Fin (k1_t128_loop i v606 v612).trips, ∀ (k1_h64 : k1_cond64 i v606 v612 = 1#1), ∀ a, (k1_off513 i v606 v612 k1_t128) a + S1x16.size a ≤ S256x128.size a) ∧
  (∀ k1_t128 : Fin (k1_t128_loop i v606 v612).trips, ∀ (k1_h64 : k1_cond64 i v606 v612 = 1#1), ∀ a, (k1_off514 i v606 v612 k1_t128) a + S1x16.size a ≤ S256x128.size a) ∧
  (∀ (k1_h96 : k1_cond96 i v606 v612 = 1#1), (k1_t191_loop i v606 v612).OK) ∧
  (∀ k1_t191 : Fin (k1_t191_loop i v606 v612).trips, ∀ (k1_h96 : k1_cond96 i v606 v612 = 1#1), ∀ a, (k1_off763 i v606 v612 k1_t191) a + S1x16.size a ≤ S256x128.size a) ∧
  (∀ k1_t191 : Fin (k1_t191_loop i v606 v612).trips, ∀ (k1_h96 : k1_cond96 i v606 v612 = 1#1), ∀ a, (k1_off764 i v606 v612 k1_t191) a + S1x16.size a ≤ S256x128.size a) ∧
  (∀ k1_t191 : Fin (k1_t191_loop i v606 v612).trips, ∀ (k1_h96 : k1_cond96 i v606 v612 = 1#1), ∀ a, (k1_off765 i v606 v612 k1_t191) a + S1x16.size a ≤ S256x128.size a) ∧
  (∀ k1_t191 : Fin (k1_t191_loop i v606 v612).trips, ∀ (k1_h96 : k1_cond96 i v606 v612 = 1#1), ∀ a, (k1_off766 i v606 v612 k1_t191) a + S1x16.size a ≤ S256x128.size a) ∧
  (∀ (k1_h96 : k1_cond96 i v606 v612 = 1#1), (k1_t192_loop i v606 v612).OK) ∧
  (∀ k1_t192 : Fin (k1_t192_loop i v606 v612).trips, ∀ (k1_h96 : k1_cond96 i v606 v612 = 1#1), ∀ a, (k1_off767 i v606 v612 k1_t192) a + S1x16.size a ≤ S256x128.size a) ∧
  (∀ k1_t192 : Fin (k1_t192_loop i v606 v612).trips, ∀ (k1_h96 : k1_cond96 i v606 v612 = 1#1), ∀ a, (k1_off768 i v606 v612 k1_t192) a + S1x16.size a ≤ S256x128.size a) ∧
  (∀ k1_t192 : Fin (k1_t192_loop i v606 v612).trips, ∀ (k1_h96 : k1_cond96 i v606 v612 = 1#1), ∀ a, (k1_off769 i v606 v612 k1_t192) a + S1x16.size a ≤ S256x128.size a) ∧
  (∀ k1_t192 : Fin (k1_t192_loop i v606 v612).trips, ∀ (k1_h96 : k1_cond96 i v606 v612 = 1#1), ∀ a, (k1_off770 i v606 v612 k1_t192) a + S1x16.size a ≤ S256x128.size a) ∧
  (∀ (k1_h128 : k1_cond128 i v606 v612 = 1#1), (k1_t255_loop i v606 v612).OK) ∧
  (∀ k1_t255 : Fin (k1_t255_loop i v606 v612).trips, ∀ (k1_h128 : k1_cond128 i v606 v612 = 1#1), ∀ a, (k1_off1019 i v606 v612 k1_t255) a + S1x16.size a ≤ S256x128.size a)
def k1_chk32_1 (i : grid1.Coords) (v606 : BitVec 32) (v612 : BitVec 32) : Prop :=
  (∀ k1_t255 : Fin (k1_t255_loop i v606 v612).trips, ∀ (k1_h128 : k1_cond128 i v606 v612 = 1#1), ∀ a, (k1_off1020 i v606 v612 k1_t255) a + S1x16.size a ≤ S256x128.size a) ∧
  (∀ k1_t255 : Fin (k1_t255_loop i v606 v612).trips, ∀ (k1_h128 : k1_cond128 i v606 v612 = 1#1), ∀ a, (k1_off1021 i v606 v612 k1_t255) a + S1x16.size a ≤ S256x128.size a) ∧
  (∀ k1_t255 : Fin (k1_t255_loop i v606 v612).trips, ∀ (k1_h128 : k1_cond128 i v606 v612 = 1#1), ∀ a, (k1_off1022 i v606 v612 k1_t255) a + S1x16.size a ≤ S256x128.size a) ∧
  (∀ (k1_h128 : k1_cond128 i v606 v612 = 1#1), (k1_t256_loop i v606 v612).OK) ∧
  (∀ k1_t256 : Fin (k1_t256_loop i v606 v612).trips, ∀ (k1_h128 : k1_cond128 i v606 v612 = 1#1), ∀ a, (k1_off1023 i v606 v612 k1_t256) a + S1x16.size a ≤ S256x128.size a) ∧
  (∀ k1_t256 : Fin (k1_t256_loop i v606 v612).trips, ∀ (k1_h128 : k1_cond128 i v606 v612 = 1#1), ∀ a, (k1_off1024 i v606 v612 k1_t256) a + S1x16.size a ≤ S256x128.size a) ∧
  (∀ k1_t256 : Fin (k1_t256_loop i v606 v612).trips, ∀ (k1_h128 : k1_cond128 i v606 v612 = 1#1), ∀ a, (k1_off1025 i v606 v612 k1_t256) a + S1x16.size a ≤ S256x128.size a) ∧
  (∀ k1_t256 : Fin (k1_t256_loop i v606 v612).trips, ∀ (k1_h128 : k1_cond128 i v606 v612 = 1#1), ∀ a, (k1_off1026 i v606 v612 k1_t256) a + S1x16.size a ≤ S256x128.size a)
def k1_chk32 (i : grid1.Coords) (v606 : BitVec 32) (v612 : BitVec 32) : Prop :=
  k1_chk32_0 i v606 v612 ∧
  k1_chk32_1 i v606 v612
theorem k1_t63_ok : ∀ (i : grid1.Coords) (v606 : BitVec 32) (v612 : BitVec 32) (k1_hw32 : k1_chk32 i v606 v612), ∀ (k1_h32 : k1_cond32 i v606 v612 = 1#1), (k1_t63_loop i v606 v612).OK := fun i v606 v612 k1_hw32 k1_h32 => k1_hw32.1.1 k1_h32
theorem k1_off250_inb : ∀ (i : grid1.Coords) (v606 : BitVec 32) (v612 : BitVec 32) (k1_hw32 : k1_chk32 i v606 v612) (k1_t63 : Fin (k1_t63_loop i v606 v612).trips), ∀ (k1_h32 : k1_cond32 i v606 v612 = 1#1), ∀ a, (k1_off250 i v606 v612 k1_t63) a + S1x16.size a ≤ S256x128.size a := fun i v606 v612 k1_hw32 k1_t63 k1_h32 => k1_hw32.1.2.1 k1_t63 k1_h32
theorem k1_off251_inb : ∀ (i : grid1.Coords) (v606 : BitVec 32) (v612 : BitVec 32) (k1_hw32 : k1_chk32 i v606 v612) (k1_t63 : Fin (k1_t63_loop i v606 v612).trips), ∀ (k1_h32 : k1_cond32 i v606 v612 = 1#1), ∀ a, (k1_off251 i v606 v612 k1_t63) a + S1x16.size a ≤ S256x128.size a := fun i v606 v612 k1_hw32 k1_t63 k1_h32 => k1_hw32.1.2.2.1 k1_t63 k1_h32
theorem k1_off252_inb : ∀ (i : grid1.Coords) (v606 : BitVec 32) (v612 : BitVec 32) (k1_hw32 : k1_chk32 i v606 v612) (k1_t63 : Fin (k1_t63_loop i v606 v612).trips), ∀ (k1_h32 : k1_cond32 i v606 v612 = 1#1), ∀ a, (k1_off252 i v606 v612 k1_t63) a + S1x16.size a ≤ S256x128.size a := fun i v606 v612 k1_hw32 k1_t63 k1_h32 => k1_hw32.1.2.2.2.1 k1_t63 k1_h32
theorem k1_off253_inb : ∀ (i : grid1.Coords) (v606 : BitVec 32) (v612 : BitVec 32) (k1_hw32 : k1_chk32 i v606 v612) (k1_t63 : Fin (k1_t63_loop i v606 v612).trips), ∀ (k1_h32 : k1_cond32 i v606 v612 = 1#1), ∀ a, (k1_off253 i v606 v612 k1_t63) a + S1x16.size a ≤ S256x128.size a := fun i v606 v612 k1_hw32 k1_t63 k1_h32 => k1_hw32.1.2.2.2.2.1 k1_t63 k1_h32
theorem k1_t64_ok : ∀ (i : grid1.Coords) (v606 : BitVec 32) (v612 : BitVec 32) (k1_hw32 : k1_chk32 i v606 v612), ∀ (k1_h32 : k1_cond32 i v606 v612 = 1#1), (k1_t64_loop i v606 v612).OK := fun i v606 v612 k1_hw32 k1_h32 => k1_hw32.1.2.2.2.2.2.1 k1_h32
theorem k1_off254_inb : ∀ (i : grid1.Coords) (v606 : BitVec 32) (v612 : BitVec 32) (k1_hw32 : k1_chk32 i v606 v612) (k1_t64 : Fin (k1_t64_loop i v606 v612).trips), ∀ (k1_h32 : k1_cond32 i v606 v612 = 1#1), ∀ a, (k1_off254 i v606 v612 k1_t64) a + S1x16.size a ≤ S256x128.size a := fun i v606 v612 k1_hw32 k1_t64 k1_h32 => k1_hw32.1.2.2.2.2.2.2.1 k1_t64 k1_h32
theorem k1_off255_inb : ∀ (i : grid1.Coords) (v606 : BitVec 32) (v612 : BitVec 32) (k1_hw32 : k1_chk32 i v606 v612) (k1_t64 : Fin (k1_t64_loop i v606 v612).trips), ∀ (k1_h32 : k1_cond32 i v606 v612 = 1#1), ∀ a, (k1_off255 i v606 v612 k1_t64) a + S1x16.size a ≤ S256x128.size a := fun i v606 v612 k1_hw32 k1_t64 k1_h32 => k1_hw32.1.2.2.2.2.2.2.2.1 k1_t64 k1_h32
theorem k1_off256_inb : ∀ (i : grid1.Coords) (v606 : BitVec 32) (v612 : BitVec 32) (k1_hw32 : k1_chk32 i v606 v612) (k1_t64 : Fin (k1_t64_loop i v606 v612).trips), ∀ (k1_h32 : k1_cond32 i v606 v612 = 1#1), ∀ a, (k1_off256 i v606 v612 k1_t64) a + S1x16.size a ≤ S256x128.size a := fun i v606 v612 k1_hw32 k1_t64 k1_h32 => k1_hw32.1.2.2.2.2.2.2.2.2.1 k1_t64 k1_h32
theorem k1_off257_inb : ∀ (i : grid1.Coords) (v606 : BitVec 32) (v612 : BitVec 32) (k1_hw32 : k1_chk32 i v606 v612) (k1_t64 : Fin (k1_t64_loop i v606 v612).trips), ∀ (k1_h32 : k1_cond32 i v606 v612 = 1#1), ∀ a, (k1_off257 i v606 v612 k1_t64) a + S1x16.size a ≤ S256x128.size a := fun i v606 v612 k1_hw32 k1_t64 k1_h32 => k1_hw32.1.2.2.2.2.2.2.2.2.2.1 k1_t64 k1_h32
theorem k1_t127_ok : ∀ (i : grid1.Coords) (v606 : BitVec 32) (v612 : BitVec 32) (k1_hw32 : k1_chk32 i v606 v612), ∀ (k1_h64 : k1_cond64 i v606 v612 = 1#1), (k1_t127_loop i v606 v612).OK := fun i v606 v612 k1_hw32 k1_h64 => k1_hw32.1.2.2.2.2.2.2.2.2.2.2.1 k1_h64
theorem k1_off507_inb : ∀ (i : grid1.Coords) (v606 : BitVec 32) (v612 : BitVec 32) (k1_hw32 : k1_chk32 i v606 v612) (k1_t127 : Fin (k1_t127_loop i v606 v612).trips), ∀ (k1_h64 : k1_cond64 i v606 v612 = 1#1), ∀ a, (k1_off507 i v606 v612 k1_t127) a + S1x16.size a ≤ S256x128.size a := fun i v606 v612 k1_hw32 k1_t127 k1_h64 => k1_hw32.1.2.2.2.2.2.2.2.2.2.2.2.1 k1_t127 k1_h64
theorem k1_off508_inb : ∀ (i : grid1.Coords) (v606 : BitVec 32) (v612 : BitVec 32) (k1_hw32 : k1_chk32 i v606 v612) (k1_t127 : Fin (k1_t127_loop i v606 v612).trips), ∀ (k1_h64 : k1_cond64 i v606 v612 = 1#1), ∀ a, (k1_off508 i v606 v612 k1_t127) a + S1x16.size a ≤ S256x128.size a := fun i v606 v612 k1_hw32 k1_t127 k1_h64 => k1_hw32.1.2.2.2.2.2.2.2.2.2.2.2.2.1 k1_t127 k1_h64
theorem k1_off509_inb : ∀ (i : grid1.Coords) (v606 : BitVec 32) (v612 : BitVec 32) (k1_hw32 : k1_chk32 i v606 v612) (k1_t127 : Fin (k1_t127_loop i v606 v612).trips), ∀ (k1_h64 : k1_cond64 i v606 v612 = 1#1), ∀ a, (k1_off509 i v606 v612 k1_t127) a + S1x16.size a ≤ S256x128.size a := fun i v606 v612 k1_hw32 k1_t127 k1_h64 => k1_hw32.1.2.2.2.2.2.2.2.2.2.2.2.2.2.1 k1_t127 k1_h64
theorem k1_off510_inb : ∀ (i : grid1.Coords) (v606 : BitVec 32) (v612 : BitVec 32) (k1_hw32 : k1_chk32 i v606 v612) (k1_t127 : Fin (k1_t127_loop i v606 v612).trips), ∀ (k1_h64 : k1_cond64 i v606 v612 = 1#1), ∀ a, (k1_off510 i v606 v612 k1_t127) a + S1x16.size a ≤ S256x128.size a := fun i v606 v612 k1_hw32 k1_t127 k1_h64 => k1_hw32.1.2.2.2.2.2.2.2.2.2.2.2.2.2.2.1 k1_t127 k1_h64
theorem k1_t128_ok : ∀ (i : grid1.Coords) (v606 : BitVec 32) (v612 : BitVec 32) (k1_hw32 : k1_chk32 i v606 v612), ∀ (k1_h64 : k1_cond64 i v606 v612 = 1#1), (k1_t128_loop i v606 v612).OK := fun i v606 v612 k1_hw32 k1_h64 => k1_hw32.1.2.2.2.2.2.2.2.2.2.2.2.2.2.2.2.1 k1_h64
theorem k1_off511_inb : ∀ (i : grid1.Coords) (v606 : BitVec 32) (v612 : BitVec 32) (k1_hw32 : k1_chk32 i v606 v612) (k1_t128 : Fin (k1_t128_loop i v606 v612).trips), ∀ (k1_h64 : k1_cond64 i v606 v612 = 1#1), ∀ a, (k1_off511 i v606 v612 k1_t128) a + S1x16.size a ≤ S256x128.size a := fun i v606 v612 k1_hw32 k1_t128 k1_h64 => k1_hw32.1.2.2.2.2.2.2.2.2.2.2.2.2.2.2.2.2.1 k1_t128 k1_h64
theorem k1_off512_inb : ∀ (i : grid1.Coords) (v606 : BitVec 32) (v612 : BitVec 32) (k1_hw32 : k1_chk32 i v606 v612) (k1_t128 : Fin (k1_t128_loop i v606 v612).trips), ∀ (k1_h64 : k1_cond64 i v606 v612 = 1#1), ∀ a, (k1_off512 i v606 v612 k1_t128) a + S1x16.size a ≤ S256x128.size a := fun i v606 v612 k1_hw32 k1_t128 k1_h64 => k1_hw32.1.2.2.2.2.2.2.2.2.2.2.2.2.2.2.2.2.2.1 k1_t128 k1_h64
theorem k1_off513_inb : ∀ (i : grid1.Coords) (v606 : BitVec 32) (v612 : BitVec 32) (k1_hw32 : k1_chk32 i v606 v612) (k1_t128 : Fin (k1_t128_loop i v606 v612).trips), ∀ (k1_h64 : k1_cond64 i v606 v612 = 1#1), ∀ a, (k1_off513 i v606 v612 k1_t128) a + S1x16.size a ≤ S256x128.size a := fun i v606 v612 k1_hw32 k1_t128 k1_h64 => k1_hw32.1.2.2.2.2.2.2.2.2.2.2.2.2.2.2.2.2.2.2.1 k1_t128 k1_h64
theorem k1_off514_inb : ∀ (i : grid1.Coords) (v606 : BitVec 32) (v612 : BitVec 32) (k1_hw32 : k1_chk32 i v606 v612) (k1_t128 : Fin (k1_t128_loop i v606 v612).trips), ∀ (k1_h64 : k1_cond64 i v606 v612 = 1#1), ∀ a, (k1_off514 i v606 v612 k1_t128) a + S1x16.size a ≤ S256x128.size a := fun i v606 v612 k1_hw32 k1_t128 k1_h64 => k1_hw32.1.2.2.2.2.2.2.2.2.2.2.2.2.2.2.2.2.2.2.2.1 k1_t128 k1_h64
theorem k1_t191_ok : ∀ (i : grid1.Coords) (v606 : BitVec 32) (v612 : BitVec 32) (k1_hw32 : k1_chk32 i v606 v612), ∀ (k1_h96 : k1_cond96 i v606 v612 = 1#1), (k1_t191_loop i v606 v612).OK := fun i v606 v612 k1_hw32 k1_h96 => k1_hw32.1.2.2.2.2.2.2.2.2.2.2.2.2.2.2.2.2.2.2.2.2.1 k1_h96
theorem k1_off763_inb : ∀ (i : grid1.Coords) (v606 : BitVec 32) (v612 : BitVec 32) (k1_hw32 : k1_chk32 i v606 v612) (k1_t191 : Fin (k1_t191_loop i v606 v612).trips), ∀ (k1_h96 : k1_cond96 i v606 v612 = 1#1), ∀ a, (k1_off763 i v606 v612 k1_t191) a + S1x16.size a ≤ S256x128.size a := fun i v606 v612 k1_hw32 k1_t191 k1_h96 => k1_hw32.1.2.2.2.2.2.2.2.2.2.2.2.2.2.2.2.2.2.2.2.2.2.1 k1_t191 k1_h96
theorem k1_off764_inb : ∀ (i : grid1.Coords) (v606 : BitVec 32) (v612 : BitVec 32) (k1_hw32 : k1_chk32 i v606 v612) (k1_t191 : Fin (k1_t191_loop i v606 v612).trips), ∀ (k1_h96 : k1_cond96 i v606 v612 = 1#1), ∀ a, (k1_off764 i v606 v612 k1_t191) a + S1x16.size a ≤ S256x128.size a := fun i v606 v612 k1_hw32 k1_t191 k1_h96 => k1_hw32.1.2.2.2.2.2.2.2.2.2.2.2.2.2.2.2.2.2.2.2.2.2.2.1 k1_t191 k1_h96
theorem k1_off765_inb : ∀ (i : grid1.Coords) (v606 : BitVec 32) (v612 : BitVec 32) (k1_hw32 : k1_chk32 i v606 v612) (k1_t191 : Fin (k1_t191_loop i v606 v612).trips), ∀ (k1_h96 : k1_cond96 i v606 v612 = 1#1), ∀ a, (k1_off765 i v606 v612 k1_t191) a + S1x16.size a ≤ S256x128.size a := fun i v606 v612 k1_hw32 k1_t191 k1_h96 => k1_hw32.1.2.2.2.2.2.2.2.2.2.2.2.2.2.2.2.2.2.2.2.2.2.2.2.1 k1_t191 k1_h96
theorem k1_off766_inb : ∀ (i : grid1.Coords) (v606 : BitVec 32) (v612 : BitVec 32) (k1_hw32 : k1_chk32 i v606 v612) (k1_t191 : Fin (k1_t191_loop i v606 v612).trips), ∀ (k1_h96 : k1_cond96 i v606 v612 = 1#1), ∀ a, (k1_off766 i v606 v612 k1_t191) a + S1x16.size a ≤ S256x128.size a := fun i v606 v612 k1_hw32 k1_t191 k1_h96 => k1_hw32.1.2.2.2.2.2.2.2.2.2.2.2.2.2.2.2.2.2.2.2.2.2.2.2.2.1 k1_t191 k1_h96
theorem k1_t192_ok : ∀ (i : grid1.Coords) (v606 : BitVec 32) (v612 : BitVec 32) (k1_hw32 : k1_chk32 i v606 v612), ∀ (k1_h96 : k1_cond96 i v606 v612 = 1#1), (k1_t192_loop i v606 v612).OK := fun i v606 v612 k1_hw32 k1_h96 => k1_hw32.1.2.2.2.2.2.2.2.2.2.2.2.2.2.2.2.2.2.2.2.2.2.2.2.2.2.1 k1_h96
theorem k1_off767_inb : ∀ (i : grid1.Coords) (v606 : BitVec 32) (v612 : BitVec 32) (k1_hw32 : k1_chk32 i v606 v612) (k1_t192 : Fin (k1_t192_loop i v606 v612).trips), ∀ (k1_h96 : k1_cond96 i v606 v612 = 1#1), ∀ a, (k1_off767 i v606 v612 k1_t192) a + S1x16.size a ≤ S256x128.size a := fun i v606 v612 k1_hw32 k1_t192 k1_h96 => k1_hw32.1.2.2.2.2.2.2.2.2.2.2.2.2.2.2.2.2.2.2.2.2.2.2.2.2.2.2.1 k1_t192 k1_h96
theorem k1_off768_inb : ∀ (i : grid1.Coords) (v606 : BitVec 32) (v612 : BitVec 32) (k1_hw32 : k1_chk32 i v606 v612) (k1_t192 : Fin (k1_t192_loop i v606 v612).trips), ∀ (k1_h96 : k1_cond96 i v606 v612 = 1#1), ∀ a, (k1_off768 i v606 v612 k1_t192) a + S1x16.size a ≤ S256x128.size a := fun i v606 v612 k1_hw32 k1_t192 k1_h96 => k1_hw32.1.2.2.2.2.2.2.2.2.2.2.2.2.2.2.2.2.2.2.2.2.2.2.2.2.2.2.2.1 k1_t192 k1_h96
theorem k1_off769_inb : ∀ (i : grid1.Coords) (v606 : BitVec 32) (v612 : BitVec 32) (k1_hw32 : k1_chk32 i v606 v612) (k1_t192 : Fin (k1_t192_loop i v606 v612).trips), ∀ (k1_h96 : k1_cond96 i v606 v612 = 1#1), ∀ a, (k1_off769 i v606 v612 k1_t192) a + S1x16.size a ≤ S256x128.size a := fun i v606 v612 k1_hw32 k1_t192 k1_h96 => k1_hw32.1.2.2.2.2.2.2.2.2.2.2.2.2.2.2.2.2.2.2.2.2.2.2.2.2.2.2.2.2.1 k1_t192 k1_h96
theorem k1_off770_inb : ∀ (i : grid1.Coords) (v606 : BitVec 32) (v612 : BitVec 32) (k1_hw32 : k1_chk32 i v606 v612) (k1_t192 : Fin (k1_t192_loop i v606 v612).trips), ∀ (k1_h96 : k1_cond96 i v606 v612 = 1#1), ∀ a, (k1_off770 i v606 v612 k1_t192) a + S1x16.size a ≤ S256x128.size a := fun i v606 v612 k1_hw32 k1_t192 k1_h96 => k1_hw32.1.2.2.2.2.2.2.2.2.2.2.2.2.2.2.2.2.2.2.2.2.2.2.2.2.2.2.2.2.2.1 k1_t192 k1_h96
theorem k1_t255_ok : ∀ (i : grid1.Coords) (v606 : BitVec 32) (v612 : BitVec 32) (k1_hw32 : k1_chk32 i v606 v612), ∀ (k1_h128 : k1_cond128 i v606 v612 = 1#1), (k1_t255_loop i v606 v612).OK := fun i v606 v612 k1_hw32 k1_h128 => k1_hw32.1.2.2.2.2.2.2.2.2.2.2.2.2.2.2.2.2.2.2.2.2.2.2.2.2.2.2.2.2.2.2.1 k1_h128
theorem k1_off1019_inb : ∀ (i : grid1.Coords) (v606 : BitVec 32) (v612 : BitVec 32) (k1_hw32 : k1_chk32 i v606 v612) (k1_t255 : Fin (k1_t255_loop i v606 v612).trips), ∀ (k1_h128 : k1_cond128 i v606 v612 = 1#1), ∀ a, (k1_off1019 i v606 v612 k1_t255) a + S1x16.size a ≤ S256x128.size a := fun i v606 v612 k1_hw32 k1_t255 k1_h128 => k1_hw32.1.2.2.2.2.2.2.2.2.2.2.2.2.2.2.2.2.2.2.2.2.2.2.2.2.2.2.2.2.2.2.2 k1_t255 k1_h128
theorem k1_off1020_inb : ∀ (i : grid1.Coords) (v606 : BitVec 32) (v612 : BitVec 32) (k1_hw32 : k1_chk32 i v606 v612) (k1_t255 : Fin (k1_t255_loop i v606 v612).trips), ∀ (k1_h128 : k1_cond128 i v606 v612 = 1#1), ∀ a, (k1_off1020 i v606 v612 k1_t255) a + S1x16.size a ≤ S256x128.size a := fun i v606 v612 k1_hw32 k1_t255 k1_h128 => k1_hw32.2.1 k1_t255 k1_h128
theorem k1_off1021_inb : ∀ (i : grid1.Coords) (v606 : BitVec 32) (v612 : BitVec 32) (k1_hw32 : k1_chk32 i v606 v612) (k1_t255 : Fin (k1_t255_loop i v606 v612).trips), ∀ (k1_h128 : k1_cond128 i v606 v612 = 1#1), ∀ a, (k1_off1021 i v606 v612 k1_t255) a + S1x16.size a ≤ S256x128.size a := fun i v606 v612 k1_hw32 k1_t255 k1_h128 => k1_hw32.2.2.1 k1_t255 k1_h128
theorem k1_off1022_inb : ∀ (i : grid1.Coords) (v606 : BitVec 32) (v612 : BitVec 32) (k1_hw32 : k1_chk32 i v606 v612) (k1_t255 : Fin (k1_t255_loop i v606 v612).trips), ∀ (k1_h128 : k1_cond128 i v606 v612 = 1#1), ∀ a, (k1_off1022 i v606 v612 k1_t255) a + S1x16.size a ≤ S256x128.size a := fun i v606 v612 k1_hw32 k1_t255 k1_h128 => k1_hw32.2.2.2.1 k1_t255 k1_h128
theorem k1_t256_ok : ∀ (i : grid1.Coords) (v606 : BitVec 32) (v612 : BitVec 32) (k1_hw32 : k1_chk32 i v606 v612), ∀ (k1_h128 : k1_cond128 i v606 v612 = 1#1), (k1_t256_loop i v606 v612).OK := fun i v606 v612 k1_hw32 k1_h128 => k1_hw32.2.2.2.2.1 k1_h128
theorem k1_off1023_inb : ∀ (i : grid1.Coords) (v606 : BitVec 32) (v612 : BitVec 32) (k1_hw32 : k1_chk32 i v606 v612) (k1_t256 : Fin (k1_t256_loop i v606 v612).trips), ∀ (k1_h128 : k1_cond128 i v606 v612 = 1#1), ∀ a, (k1_off1023 i v606 v612 k1_t256) a + S1x16.size a ≤ S256x128.size a := fun i v606 v612 k1_hw32 k1_t256 k1_h128 => k1_hw32.2.2.2.2.2.1 k1_t256 k1_h128
theorem k1_off1024_inb : ∀ (i : grid1.Coords) (v606 : BitVec 32) (v612 : BitVec 32) (k1_hw32 : k1_chk32 i v606 v612) (k1_t256 : Fin (k1_t256_loop i v606 v612).trips), ∀ (k1_h128 : k1_cond128 i v606 v612 = 1#1), ∀ a, (k1_off1024 i v606 v612 k1_t256) a + S1x16.size a ≤ S256x128.size a := fun i v606 v612 k1_hw32 k1_t256 k1_h128 => k1_hw32.2.2.2.2.2.2.1 k1_t256 k1_h128
theorem k1_off1025_inb : ∀ (i : grid1.Coords) (v606 : BitVec 32) (v612 : BitVec 32) (k1_hw32 : k1_chk32 i v606 v612) (k1_t256 : Fin (k1_t256_loop i v606 v612).trips), ∀ (k1_h128 : k1_cond128 i v606 v612 = 1#1), ∀ a, (k1_off1025 i v606 v612 k1_t256) a + S1x16.size a ≤ S256x128.size a := fun i v606 v612 k1_hw32 k1_t256 k1_h128 => k1_hw32.2.2.2.2.2.2.2.1 k1_t256 k1_h128
theorem k1_off1026_inb : ∀ (i : grid1.Coords) (v606 : BitVec 32) (v612 : BitVec 32) (k1_hw32 : k1_chk32 i v606 v612) (k1_t256 : Fin (k1_t256_loop i v606 v612).trips), ∀ (k1_h128 : k1_cond128 i v606 v612 = 1#1), ∀ a, (k1_off1026 i v606 v612 k1_t256) a + S1x16.size a ≤ S256x128.size a := fun i v606 v612 k1_hw32 k1_t256 k1_h128 => k1_hw32.2.2.2.2.2.2.2.2 k1_t256 k1_h128

def k1_off1027 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1188_r2 : BitVec 32 := 0#32
  let c0_i32_1189_r2 : BitVec 32 := 0#32
  ![v1.toNat, 0, 0]
abbrev grid2 : Pipeline.Grid := ⟨1, ![8], ![false]⟩

def cc2_transform_0 (i : grid2.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc2_transform_1 (i : grid2.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S61x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S61x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S61x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![2, 16], ![false, false]⟩

def k3_off1 (i : grid3.Coords) (c0_i32_270 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v617 : BitVec 32 := Scalar.addi v2 c0_i32_270
  let c0_i32_271 : BitVec 32 := 0#32
  ![v617.toNat, 0]
@[reducible] def k3_t1_loop (i : grid3.Coords) (v266 : BitVec 32) (v271 : BitVec 32) : Scf.Loop 32 :=
  let c256_i32_280 : BitVec 32 := 256#32
  let c0_i32_279 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let c256_i32_283 : BitVec 32 := 256#32
  let c0_i32_282 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c0_i32_281 : BitVec 32 := 0#32
  let v629 : BitVec 32 := Scalar.subi v274 c0_i32_281
  let v630 : BitVec 32 := Scalar.maxsi c0_i32_282 v629
  let v631 : BitVec 32 := Scalar.minsi c256_i32_283 v630
  let v1805 : BitVec 32 := Scalar.subi v631 v628
  let c1_i32_1195 : BitVec 32 := 1#32
  let v1807 : BitVec 32 := Scalar.divsi v1805 c1_i32_1195
  let v1808 : BitVec 32 := Scalar.muli v1807 c1_i32_1195
  let v1809 : BitVec 32 := Scalar.addi v628 v1808
  let c1_i32_1196 : BitVec 32 := 1#32
  ⟨v628, v1809, c1_i32_1196⟩
def k3_cond1 (i : grid3.Coords) (v266 : BitVec 32) (v271 : BitVec 32) : BitVec 1 :=
  let c256_i32_283 : BitVec 32 := 256#32
  let c0_i32_282 : BitVec 32 := 0#32
  let c1024_i32_114 : BitVec 32 := 1024#32
  let c0_i32_113 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v272 : BitVec 32 := Scalar.subi v271 v3
  let v273 : BitVec 32 := Scalar.maxsi c0_i32_113 v272
  let v274 : BitVec 32 := Scalar.minsi c1024_i32_114 v273
  let c0_i32_281 : BitVec 32 := 0#32
  let v629 : BitVec 32 := Scalar.subi v274 c0_i32_281
  let v630 : BitVec 32 := Scalar.maxsi c0_i32_282 v629
  let v631 : BitVec 32 := Scalar.minsi c256_i32_283 v630
  let c256_i32_280 : BitVec 32 := 256#32
  let c0_i32_279 : BitVec 32 := 0#32
  let c1024_i32_112 : BitVec 32 := 1024#32
  let c0_i32_111 : BitVec 32 := 0#32
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let v632 : BitVec 1 := Scalar.cmpi .sgt v631 v628
  let v633 : BitVec 32 := Scalar.extui v632
  let c0_i32_284 : BitVec 32 := 0#32
  let v634 : BitVec 1 := Scalar.cmpi .ne v633 c0_i32_284
  v634

def k3_off2 (i : grid3.Coords) (v266 : BitVec 32) (v271 : BitVec 32) (k3_t1 : Fin (k3_t1_loop i v266 v271).trips) : Fin 2 → Nat :=
  let c256_i32_280 : BitVec 32 := 256#32
  let c0_i32_279 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let c1_i32_1196 : BitVec 32 := 1#32
  let arg13 : BitVec 32 := Scf.iv v628 c1_i32_1196 k3_t1
  let v1828 : Index := Scalar.indexCast arg13
  let c0_1206 : Index := 0#32
  ![v1828.toNat, 0]
def k3_off3 (i : grid3.Coords) (v266 : BitVec 32) (v271 : BitVec 32) (k3_t1 : Fin (k3_t1_loop i v266 v271).trips) : Fin 2 → Nat :=
  let c256_i32_280 : BitVec 32 := 256#32
  let c0_i32_279 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let c1_i32_1196 : BitVec 32 := 1#32
  let arg13 : BitVec 32 := Scf.iv v628 c1_i32_1196 k3_t1
  let v1832 : Index := Scalar.indexCast arg13
  let c16_1207 : Index := 16#32
  ![v1832.toNat, 16]
def k3_off4 (i : grid3.Coords) (v266 : BitVec 32) (v271 : BitVec 32) (k3_t1 : Fin (k3_t1_loop i v266 v271).trips) : Fin 2 → Nat :=
  let c256_i32_280 : BitVec 32 := 256#32
  let c0_i32_279 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let c1_i32_1196 : BitVec 32 := 1#32
  let arg13 : BitVec 32 := Scf.iv v628 c1_i32_1196 k3_t1
  let v1836 : Index := Scalar.indexCast arg13
  let c32_1208 : Index := 32#32
  ![v1836.toNat, 32]
def k3_off5 (i : grid3.Coords) (v266 : BitVec 32) (v271 : BitVec 32) (k3_t1 : Fin (k3_t1_loop i v266 v271).trips) : Fin 2 → Nat :=
  let c256_i32_280 : BitVec 32 := 256#32
  let c0_i32_279 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let c1_i32_1196 : BitVec 32 := 1#32
  let arg13 : BitVec 32 := Scf.iv v628 c1_i32_1196 k3_t1
  let v1840 : Index := Scalar.indexCast arg13
  let c48_1209 : Index := 48#32
  ![v1840.toNat, 48]
@[reducible] def k3_t2_loop (i : grid3.Coords) (v266 : BitVec 32) (v271 : BitVec 32) : Scf.Loop 32 :=
  let c256_i32_280 : BitVec 32 := 256#32
  let c0_i32_279 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let c256_i32_283 : BitVec 32 := 256#32
  let c0_i32_282 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c0_i32_281 : BitVec 32 := 0#32
  let v629 : BitVec 32 := Scalar.subi v274 c0_i32_281
  let v630 : BitVec 32 := Scalar.maxsi c0_i32_282 v629
  let v631 : BitVec 32 := Scalar.minsi c256_i32_283 v630
  let v1805 : BitVec 32 := Scalar.subi v631 v628
  let c1_i32_1195 : BitVec 32 := 1#32
  let v1807 : BitVec 32 := Scalar.divsi v1805 c1_i32_1195
  let v1808 : BitVec 32 := Scalar.muli v1807 c1_i32_1195
  let v1809 : BitVec 32 := Scalar.addi v628 v1808
  let v1806 : BitVec 32 := Scalar.addi v628 v1805
  let c1_i32_1197 : BitVec 32 := 1#32
  ⟨v1809, v1806, c1_i32_1197⟩
def k3_off6 (i : grid3.Coords) (v266 : BitVec 32) (v271 : BitVec 32) (k3_t2 : Fin (k3_t2_loop i v266 v271).trips) : Fin 2 → Nat :=
  let c256_i32_280 : BitVec 32 := 256#32
  let c0_i32_279 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let c256_i32_283 : BitVec 32 := 256#32
  let c0_i32_282 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c0_i32_281 : BitVec 32 := 0#32
  let v629 : BitVec 32 := Scalar.subi v274 c0_i32_281
  let v630 : BitVec 32 := Scalar.maxsi c0_i32_282 v629
  let v631 : BitVec 32 := Scalar.minsi c256_i32_283 v630
  let v1805 : BitVec 32 := Scalar.subi v631 v628
  let c1_i32_1195 : BitVec 32 := 1#32
  let v1807 : BitVec 32 := Scalar.divsi v1805 c1_i32_1195
  let v1808 : BitVec 32 := Scalar.muli v1807 c1_i32_1195
  let v1809 : BitVec 32 := Scalar.addi v628 v1808
  let c1_i32_1197 : BitVec 32 := 1#32
  let arg13 : BitVec 32 := Scf.iv v1809 c1_i32_1197 k3_t2
  let v1828 : Index := Scalar.indexCast arg13
  let c0_1206 : Index := 0#32
  ![v1828.toNat, 0]
def k3_off7 (i : grid3.Coords) (v266 : BitVec 32) (v271 : BitVec 32) (k3_t2 : Fin (k3_t2_loop i v266 v271).trips) : Fin 2 → Nat :=
  let c256_i32_280 : BitVec 32 := 256#32
  let c0_i32_279 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let c256_i32_283 : BitVec 32 := 256#32
  let c0_i32_282 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c0_i32_281 : BitVec 32 := 0#32
  let v629 : BitVec 32 := Scalar.subi v274 c0_i32_281
  let v630 : BitVec 32 := Scalar.maxsi c0_i32_282 v629
  let v631 : BitVec 32 := Scalar.minsi c256_i32_283 v630
  let v1805 : BitVec 32 := Scalar.subi v631 v628
  let c1_i32_1195 : BitVec 32 := 1#32
  let v1807 : BitVec 32 := Scalar.divsi v1805 c1_i32_1195
  let v1808 : BitVec 32 := Scalar.muli v1807 c1_i32_1195
  let v1809 : BitVec 32 := Scalar.addi v628 v1808
  let c1_i32_1197 : BitVec 32 := 1#32
  let arg13 : BitVec 32 := Scf.iv v1809 c1_i32_1197 k3_t2
  let v1832 : Index := Scalar.indexCast arg13
  let c16_1207 : Index := 16#32
  ![v1832.toNat, 16]
def k3_off8 (i : grid3.Coords) (v266 : BitVec 32) (v271 : BitVec 32) (k3_t2 : Fin (k3_t2_loop i v266 v271).trips) : Fin 2 → Nat :=
  let c256_i32_280 : BitVec 32 := 256#32
  let c0_i32_279 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let c256_i32_283 : BitVec 32 := 256#32
  let c0_i32_282 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c0_i32_281 : BitVec 32 := 0#32
  let v629 : BitVec 32 := Scalar.subi v274 c0_i32_281
  let v630 : BitVec 32 := Scalar.maxsi c0_i32_282 v629
  let v631 : BitVec 32 := Scalar.minsi c256_i32_283 v630
  let v1805 : BitVec 32 := Scalar.subi v631 v628
  let c1_i32_1195 : BitVec 32 := 1#32
  let v1807 : BitVec 32 := Scalar.divsi v1805 c1_i32_1195
  let v1808 : BitVec 32 := Scalar.muli v1807 c1_i32_1195
  let v1809 : BitVec 32 := Scalar.addi v628 v1808
  let c1_i32_1197 : BitVec 32 := 1#32
  let arg13 : BitVec 32 := Scf.iv v1809 c1_i32_1197 k3_t2
  let v1836 : Index := Scalar.indexCast arg13
  let c32_1208 : Index := 32#32
  ![v1836.toNat, 32]
def k3_off9 (i : grid3.Coords) (v266 : BitVec 32) (v271 : BitVec 32) (k3_t2 : Fin (k3_t2_loop i v266 v271).trips) : Fin 2 → Nat :=
  let c256_i32_280 : BitVec 32 := 256#32
  let c0_i32_279 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c0_i32_278 : BitVec 32 := 0#32
  let v626 : BitVec 32 := Scalar.subi v269 c0_i32_278
  let v627 : BitVec 32 := Scalar.maxsi c0_i32_279 v626
  let v628 : BitVec 32 := Scalar.minsi c256_i32_280 v627
  let c256_i32_283 : BitVec 32 := 256#32
  let c0_i32_282 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c0_i32_281 : BitVec 32 := 0#32
  let v629 : BitVec 32 := Scalar.subi v274 c0_i32_281
  let v630 : BitVec 32 := Scalar.maxsi c0_i32_282 v629
  let v631 : BitVec 32 := Scalar.minsi c256_i32_283 v630
  let v1805 : BitVec 32 := Scalar.subi v631 v628
  let c1_i32_1195 : BitVec 32 := 1#32
  let v1807 : BitVec 32 := Scalar.divsi v1805 c1_i32_1195
  let v1808 : BitVec 32 := Scalar.muli v1807 c1_i32_1195
  let v1809 : BitVec 32 := Scalar.addi v628 v1808
  let c1_i32_1197 : BitVec 32 := 1#32
  let arg13 : BitVec 32 := Scf.iv v1809 c1_i32_1197 k3_t2
  let v1840 : Index := Scalar.indexCast arg13
  let c48_1209 : Index := 48#32
  ![v1840.toNat, 48]
@[reducible] def k3_t3_loop (i : grid3.Coords) (v276 : BitVec 32) (v282 : BitVec 32) : Scf.Loop 32 :=
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let c256_i32_290 : BitVec 32 := 256#32
  let c0_i32_289 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c0_i32_288 : BitVec 32 := 0#32
  let v638 : BitVec 32 := Scalar.subi v286 c0_i32_288
  let v639 : BitVec 32 := Scalar.maxsi c0_i32_289 v638
  let v640 : BitVec 32 := Scalar.minsi c256_i32_290 v639
  let v1805 : BitVec 32 := Scalar.subi v640 v637
  let c1_i32_1195 : BitVec 32 := 1#32
  let v1807 : BitVec 32 := Scalar.divsi v1805 c1_i32_1195
  let v1808 : BitVec 32 := Scalar.muli v1807 c1_i32_1195
  let v1809 : BitVec 32 := Scalar.addi v637 v1808
  let c1_i32_1196 : BitVec 32 := 1#32
  ⟨v637, v1809, c1_i32_1196⟩
def k3_cond2 (i : grid3.Coords) (v276 : BitVec 32) (v282 : BitVec 32) : BitVec 1 :=
  let c256_i32_290 : BitVec 32 := 256#32
  let c0_i32_289 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v284 : BitVec 32 := Scalar.subi v283 v3
  let v285 : BitVec 32 := Scalar.maxsi c0_i32_118 v284
  let v286 : BitVec 32 := Scalar.minsi c1024_i32_119 v285
  let c0_i32_288 : BitVec 32 := 0#32
  let v638 : BitVec 32 := Scalar.subi v286 c0_i32_288
  let v639 : BitVec 32 := Scalar.maxsi c0_i32_289 v638
  let v640 : BitVec 32 := Scalar.minsi c256_i32_290 v639
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let v641 : BitVec 1 := Scalar.cmpi .sgt v640 v637
  let v642 : BitVec 32 := Scalar.extui v641
  let c0_i32_291 : BitVec 32 := 0#32
  let v643 : BitVec 1 := Scalar.cmpi .ne v642 c0_i32_291
  v643

def k3_off10 (i : grid3.Coords) (v276 : BitVec 32) (v282 : BitVec 32) (k3_t3 : Fin (k3_t3_loop i v276 v282).trips) : Fin 2 → Nat :=
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let c1_i32_1196 : BitVec 32 := 1#32
  let arg13 : BitVec 32 := Scf.iv v637 c1_i32_1196 k3_t3
  let v1828 : Index := Scalar.indexCast arg13
  let c64 : Index := 64#32
  ![v1828.toNat, 64]
def k3_off11 (i : grid3.Coords) (v276 : BitVec 32) (v282 : BitVec 32) (k3_t3 : Fin (k3_t3_loop i v276 v282).trips) : Fin 2 → Nat :=
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let c1_i32_1196 : BitVec 32 := 1#32
  let arg13 : BitVec 32 := Scf.iv v637 c1_i32_1196 k3_t3
  let v1832 : Index := Scalar.indexCast arg13
  let c80 : Index := 80#32
  ![v1832.toNat, 80]
def k3_off12 (i : grid3.Coords) (v276 : BitVec 32) (v282 : BitVec 32) (k3_t3 : Fin (k3_t3_loop i v276 v282).trips) : Fin 2 → Nat :=
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let c1_i32_1196 : BitVec 32 := 1#32
  let arg13 : BitVec 32 := Scf.iv v637 c1_i32_1196 k3_t3
  let v1836 : Index := Scalar.indexCast arg13
  let c96 : Index := 96#32
  ![v1836.toNat, 96]
def k3_off13 (i : grid3.Coords) (v276 : BitVec 32) (v282 : BitVec 32) (k3_t3 : Fin (k3_t3_loop i v276 v282).trips) : Fin 2 → Nat :=
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let c1_i32_1196 : BitVec 32 := 1#32
  let arg13 : BitVec 32 := Scf.iv v637 c1_i32_1196 k3_t3
  let v1840 : Index := Scalar.indexCast arg13
  let c112 : Index := 112#32
  ![v1840.toNat, 112]
@[reducible] def k3_t4_loop (i : grid3.Coords) (v276 : BitVec 32) (v282 : BitVec 32) : Scf.Loop 32 :=
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let c256_i32_290 : BitVec 32 := 256#32
  let c0_i32_289 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c0_i32_288 : BitVec 32 := 0#32
  let v638 : BitVec 32 := Scalar.subi v286 c0_i32_288
  let v639 : BitVec 32 := Scalar.maxsi c0_i32_289 v638
  let v640 : BitVec 32 := Scalar.minsi c256_i32_290 v639
  let v1805 : BitVec 32 := Scalar.subi v640 v637
  let c1_i32_1195 : BitVec 32 := 1#32
  let v1807 : BitVec 32 := Scalar.divsi v1805 c1_i32_1195
  let v1808 : BitVec 32 := Scalar.muli v1807 c1_i32_1195
  let v1809 : BitVec 32 := Scalar.addi v637 v1808
  let v1806 : BitVec 32 := Scalar.addi v637 v1805
  let c1_i32_1197 : BitVec 32 := 1#32
  ⟨v1809, v1806, c1_i32_1197⟩
def k3_off14 (i : grid3.Coords) (v276 : BitVec 32) (v282 : BitVec 32) (k3_t4 : Fin (k3_t4_loop i v276 v282).trips) : Fin 2 → Nat :=
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let c256_i32_290 : BitVec 32 := 256#32
  let c0_i32_289 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c0_i32_288 : BitVec 32 := 0#32
  let v638 : BitVec 32 := Scalar.subi v286 c0_i32_288
  let v639 : BitVec 32 := Scalar.maxsi c0_i32_289 v638
  let v640 : BitVec 32 := Scalar.minsi c256_i32_290 v639
  let v1805 : BitVec 32 := Scalar.subi v640 v637
  let c1_i32_1195 : BitVec 32 := 1#32
  let v1807 : BitVec 32 := Scalar.divsi v1805 c1_i32_1195
  let v1808 : BitVec 32 := Scalar.muli v1807 c1_i32_1195
  let v1809 : BitVec 32 := Scalar.addi v637 v1808
  let c1_i32_1197 : BitVec 32 := 1#32
  let arg13 : BitVec 32 := Scf.iv v1809 c1_i32_1197 k3_t4
  let v1828 : Index := Scalar.indexCast arg13
  let c64 : Index := 64#32
  ![v1828.toNat, 64]
def k3_off15 (i : grid3.Coords) (v276 : BitVec 32) (v282 : BitVec 32) (k3_t4 : Fin (k3_t4_loop i v276 v282).trips) : Fin 2 → Nat :=
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let c256_i32_290 : BitVec 32 := 256#32
  let c0_i32_289 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c0_i32_288 : BitVec 32 := 0#32
  let v638 : BitVec 32 := Scalar.subi v286 c0_i32_288
  let v639 : BitVec 32 := Scalar.maxsi c0_i32_289 v638
  let v640 : BitVec 32 := Scalar.minsi c256_i32_290 v639
  let v1805 : BitVec 32 := Scalar.subi v640 v637
  let c1_i32_1195 : BitVec 32 := 1#32
  let v1807 : BitVec 32 := Scalar.divsi v1805 c1_i32_1195
  let v1808 : BitVec 32 := Scalar.muli v1807 c1_i32_1195
  let v1809 : BitVec 32 := Scalar.addi v637 v1808
  let c1_i32_1197 : BitVec 32 := 1#32
  let arg13 : BitVec 32 := Scf.iv v1809 c1_i32_1197 k3_t4
  let v1832 : Index := Scalar.indexCast arg13
  let c80 : Index := 80#32
  ![v1832.toNat, 80]
def k3_off16 (i : grid3.Coords) (v276 : BitVec 32) (v282 : BitVec 32) (k3_t4 : Fin (k3_t4_loop i v276 v282).trips) : Fin 2 → Nat :=
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let c256_i32_290 : BitVec 32 := 256#32
  let c0_i32_289 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c0_i32_288 : BitVec 32 := 0#32
  let v638 : BitVec 32 := Scalar.subi v286 c0_i32_288
  let v639 : BitVec 32 := Scalar.maxsi c0_i32_289 v638
  let v640 : BitVec 32 := Scalar.minsi c256_i32_290 v639
  let v1805 : BitVec 32 := Scalar.subi v640 v637
  let c1_i32_1195 : BitVec 32 := 1#32
  let v1807 : BitVec 32 := Scalar.divsi v1805 c1_i32_1195
  let v1808 : BitVec 32 := Scalar.muli v1807 c1_i32_1195
  let v1809 : BitVec 32 := Scalar.addi v637 v1808
  let c1_i32_1197 : BitVec 32 := 1#32
  let arg13 : BitVec 32 := Scf.iv v1809 c1_i32_1197 k3_t4
  let v1836 : Index := Scalar.indexCast arg13
  let c96 : Index := 96#32
  ![v1836.toNat, 96]
def k3_off17 (i : grid3.Coords) (v276 : BitVec 32) (v282 : BitVec 32) (k3_t4 : Fin (k3_t4_loop i v276 v282).trips) : Fin 2 → Nat :=
  let c256_i32_287 : BitVec 32 := 256#32
  let c0_i32_286 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c0_i32_285 : BitVec 32 := 0#32
  let v635 : BitVec 32 := Scalar.subi v280 c0_i32_285
  let v636 : BitVec 32 := Scalar.maxsi c0_i32_286 v635
  let v637 : BitVec 32 := Scalar.minsi c256_i32_287 v636
  let c256_i32_290 : BitVec 32 := 256#32
  let c0_i32_289 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c0_i32_288 : BitVec 32 := 0#32
  let v638 : BitVec 32 := Scalar.subi v286 c0_i32_288
  let v639 : BitVec 32 := Scalar.maxsi c0_i32_289 v638
  let v640 : BitVec 32 := Scalar.minsi c256_i32_290 v639
  let v1805 : BitVec 32 := Scalar.subi v640 v637
  let c1_i32_1195 : BitVec 32 := 1#32
  let v1807 : BitVec 32 := Scalar.divsi v1805 c1_i32_1195
  let v1808 : BitVec 32 := Scalar.muli v1807 c1_i32_1195
  let v1809 : BitVec 32 := Scalar.addi v637 v1808
  let c1_i32_1197 : BitVec 32 := 1#32
  let arg13 : BitVec 32 := Scf.iv v1809 c1_i32_1197 k3_t4
  let v1840 : Index := Scalar.indexCast arg13
  let c112 : Index := 112#32
  ![v1840.toNat, 112]
@[reducible] def k3_t5_loop (i : grid3.Coords) (v288 : BitVec 32) (v293 : BitVec 32) : Scf.Loop 32 :=
  let c256_i32_294 : BitVec 32 := 256#32
  let c0_i32_293 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let c256_i32_297 : BitVec 32 := 256#32
  let c0_i32_296 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c0_i32_295 : BitVec 32 := 0#32
  let v647 : BitVec 32 := Scalar.subi v296 c0_i32_295
  let v648 : BitVec 32 := Scalar.maxsi c0_i32_296 v647
  let v649 : BitVec 32 := Scalar.minsi c256_i32_297 v648
  let v1805 : BitVec 32 := Scalar.subi v649 v646
  let c1_i32_1195 : BitVec 32 := 1#32
  let v1807 : BitVec 32 := Scalar.divsi v1805 c1_i32_1195
  let v1808 : BitVec 32 := Scalar.muli v1807 c1_i32_1195
  let v1809 : BitVec 32 := Scalar.addi v646 v1808
  let c1_i32_1196 : BitVec 32 := 1#32
  ⟨v646, v1809, c1_i32_1196⟩
def k3_cond3 (i : grid3.Coords) (v288 : BitVec 32) (v293 : BitVec 32) : BitVec 1 :=
  let c256_i32_297 : BitVec 32 := 256#32
  let c0_i32_296 : BitVec 32 := 0#32
  let c1024_i32_123 : BitVec 32 := 1024#32
  let c0_i32_122 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v294 : BitVec 32 := Scalar.subi v293 v3
  let v295 : BitVec 32 := Scalar.maxsi c0_i32_122 v294
  let v296 : BitVec 32 := Scalar.minsi c1024_i32_123 v295
  let c0_i32_295 : BitVec 32 := 0#32
  let v647 : BitVec 32 := Scalar.subi v296 c0_i32_295
  let v648 : BitVec 32 := Scalar.maxsi c0_i32_296 v647
  let v649 : BitVec 32 := Scalar.minsi c256_i32_297 v648
  let c256_i32_294 : BitVec 32 := 256#32
  let c0_i32_293 : BitVec 32 := 0#32
  let c1024_i32_121 : BitVec 32 := 1024#32
  let c0_i32_120 : BitVec 32 := 0#32
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let v650 : BitVec 1 := Scalar.cmpi .sgt v649 v646
  let v651 : BitVec 32 := Scalar.extui v650
  let c0_i32_298 : BitVec 32 := 0#32
  let v652 : BitVec 1 := Scalar.cmpi .ne v651 c0_i32_298
  v652

def k3_off18 (i : grid3.Coords) (v288 : BitVec 32) (v293 : BitVec 32) (k3_t5 : Fin (k3_t5_loop i v288 v293).trips) : Fin 2 → Nat :=
  let c256_i32_294 : BitVec 32 := 256#32
  let c0_i32_293 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let c1_i32_1196 : BitVec 32 := 1#32
  let arg13 : BitVec 32 := Scf.iv v646 c1_i32_1196 k3_t5
  let v1828 : Index := Scalar.indexCast arg13
  let c0_1206 : Index := 0#32
  ![v1828.toNat, 0]
def k3_off19 (i : grid3.Coords) (v288 : BitVec 32) (v293 : BitVec 32) (k3_t5 : Fin (k3_t5_loop i v288 v293).trips) : Fin 2 → Nat :=
  let c256_i32_294 : BitVec 32 := 256#32
  let c0_i32_293 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let c1_i32_1196 : BitVec 32 := 1#32
  let arg13 : BitVec 32 := Scf.iv v646 c1_i32_1196 k3_t5
  let v1832 : Index := Scalar.indexCast arg13
  let c16_1207 : Index := 16#32
  ![v1832.toNat, 16]
def k3_off20 (i : grid3.Coords) (v288 : BitVec 32) (v293 : BitVec 32) (k3_t5 : Fin (k3_t5_loop i v288 v293).trips) : Fin 2 → Nat :=
  let c256_i32_294 : BitVec 32 := 256#32
  let c0_i32_293 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let c1_i32_1196 : BitVec 32 := 1#32
  let arg13 : BitVec 32 := Scf.iv v646 c1_i32_1196 k3_t5
  let v1836 : Index := Scalar.indexCast arg13
  let c32_1208 : Index := 32#32
  ![v1836.toNat, 32]
def k3_off21 (i : grid3.Coords) (v288 : BitVec 32) (v293 : BitVec 32) (k3_t5 : Fin (k3_t5_loop i v288 v293).trips) : Fin 2 → Nat :=
  let c256_i32_294 : BitVec 32 := 256#32
  let c0_i32_293 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let c1_i32_1196 : BitVec 32 := 1#32
  let arg13 : BitVec 32 := Scf.iv v646 c1_i32_1196 k3_t5
  let v1840 : Index := Scalar.indexCast arg13
  let c48_1209 : Index := 48#32
  ![v1840.toNat, 48]
@[reducible] def k3_t6_loop (i : grid3.Coords) (v288 : BitVec 32) (v293 : BitVec 32) : Scf.Loop 32 :=
  let c256_i32_294 : BitVec 32 := 256#32
  let c0_i32_293 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let c256_i32_297 : BitVec 32 := 256#32
  let c0_i32_296 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c0_i32_295 : BitVec 32 := 0#32
  let v647 : BitVec 32 := Scalar.subi v296 c0_i32_295
  let v648 : BitVec 32 := Scalar.maxsi c0_i32_296 v647
  let v649 : BitVec 32 := Scalar.minsi c256_i32_297 v648
  let v1805 : BitVec 32 := Scalar.subi v649 v646
  let c1_i32_1195 : BitVec 32 := 1#32
  let v1807 : BitVec 32 := Scalar.divsi v1805 c1_i32_1195
  let v1808 : BitVec 32 := Scalar.muli v1807 c1_i32_1195
  let v1809 : BitVec 32 := Scalar.addi v646 v1808
  let v1806 : BitVec 32 := Scalar.addi v646 v1805
  let c1_i32_1197 : BitVec 32 := 1#32
  ⟨v1809, v1806, c1_i32_1197⟩
def k3_off22 (i : grid3.Coords) (v288 : BitVec 32) (v293 : BitVec 32) (k3_t6 : Fin (k3_t6_loop i v288 v293).trips) : Fin 2 → Nat :=
  let c256_i32_294 : BitVec 32 := 256#32
  let c0_i32_293 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let c256_i32_297 : BitVec 32 := 256#32
  let c0_i32_296 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c0_i32_295 : BitVec 32 := 0#32
  let v647 : BitVec 32 := Scalar.subi v296 c0_i32_295
  let v648 : BitVec 32 := Scalar.maxsi c0_i32_296 v647
  let v649 : BitVec 32 := Scalar.minsi c256_i32_297 v648
  let v1805 : BitVec 32 := Scalar.subi v649 v646
  let c1_i32_1195 : BitVec 32 := 1#32
  let v1807 : BitVec 32 := Scalar.divsi v1805 c1_i32_1195
  let v1808 : BitVec 32 := Scalar.muli v1807 c1_i32_1195
  let v1809 : BitVec 32 := Scalar.addi v646 v1808
  let c1_i32_1197 : BitVec 32 := 1#32
  let arg13 : BitVec 32 := Scf.iv v1809 c1_i32_1197 k3_t6
  let v1828 : Index := Scalar.indexCast arg13
  let c0_1206 : Index := 0#32
  ![v1828.toNat, 0]
def k3_off23 (i : grid3.Coords) (v288 : BitVec 32) (v293 : BitVec 32) (k3_t6 : Fin (k3_t6_loop i v288 v293).trips) : Fin 2 → Nat :=
  let c256_i32_294 : BitVec 32 := 256#32
  let c0_i32_293 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let c256_i32_297 : BitVec 32 := 256#32
  let c0_i32_296 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c0_i32_295 : BitVec 32 := 0#32
  let v647 : BitVec 32 := Scalar.subi v296 c0_i32_295
  let v648 : BitVec 32 := Scalar.maxsi c0_i32_296 v647
  let v649 : BitVec 32 := Scalar.minsi c256_i32_297 v648
  let v1805 : BitVec 32 := Scalar.subi v649 v646
  let c1_i32_1195 : BitVec 32 := 1#32
  let v1807 : BitVec 32 := Scalar.divsi v1805 c1_i32_1195
  let v1808 : BitVec 32 := Scalar.muli v1807 c1_i32_1195
  let v1809 : BitVec 32 := Scalar.addi v646 v1808
  let c1_i32_1197 : BitVec 32 := 1#32
  let arg13 : BitVec 32 := Scf.iv v1809 c1_i32_1197 k3_t6
  let v1832 : Index := Scalar.indexCast arg13
  let c16_1207 : Index := 16#32
  ![v1832.toNat, 16]
def k3_off24 (i : grid3.Coords) (v288 : BitVec 32) (v293 : BitVec 32) (k3_t6 : Fin (k3_t6_loop i v288 v293).trips) : Fin 2 → Nat :=
  let c256_i32_294 : BitVec 32 := 256#32
  let c0_i32_293 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let c256_i32_297 : BitVec 32 := 256#32
  let c0_i32_296 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c0_i32_295 : BitVec 32 := 0#32
  let v647 : BitVec 32 := Scalar.subi v296 c0_i32_295
  let v648 : BitVec 32 := Scalar.maxsi c0_i32_296 v647
  let v649 : BitVec 32 := Scalar.minsi c256_i32_297 v648
  let v1805 : BitVec 32 := Scalar.subi v649 v646
  let c1_i32_1195 : BitVec 32 := 1#32
  let v1807 : BitVec 32 := Scalar.divsi v1805 c1_i32_1195
  let v1808 : BitVec 32 := Scalar.muli v1807 c1_i32_1195
  let v1809 : BitVec 32 := Scalar.addi v646 v1808
  let c1_i32_1197 : BitVec 32 := 1#32
  let arg13 : BitVec 32 := Scf.iv v1809 c1_i32_1197 k3_t6
  let v1836 : Index := Scalar.indexCast arg13
  let c32_1208 : Index := 32#32
  ![v1836.toNat, 32]
def k3_off25 (i : grid3.Coords) (v288 : BitVec 32) (v293 : BitVec 32) (k3_t6 : Fin (k3_t6_loop i v288 v293).trips) : Fin 2 → Nat :=
  let c256_i32_294 : BitVec 32 := 256#32
  let c0_i32_293 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c0_i32_292 : BitVec 32 := 0#32
  let v644 : BitVec 32 := Scalar.subi v291 c0_i32_292
  let v645 : BitVec 32 := Scalar.maxsi c0_i32_293 v644
  let v646 : BitVec 32 := Scalar.minsi c256_i32_294 v645
  let c256_i32_297 : BitVec 32 := 256#32
  let c0_i32_296 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c0_i32_295 : BitVec 32 := 0#32
  let v647 : BitVec 32 := Scalar.subi v296 c0_i32_295
  let v648 : BitVec 32 := Scalar.maxsi c0_i32_296 v647
  let v649 : BitVec 32 := Scalar.minsi c256_i32_297 v648
  let v1805 : BitVec 32 := Scalar.subi v649 v646
  let c1_i32_1195 : BitVec 32 := 1#32
  let v1807 : BitVec 32 := Scalar.divsi v1805 c1_i32_1195
  let v1808 : BitVec 32 := Scalar.muli v1807 c1_i32_1195
  let v1809 : BitVec 32 := Scalar.addi v646 v1808
  let c1_i32_1197 : BitVec 32 := 1#32
  let arg13 : BitVec 32 := Scf.iv v1809 c1_i32_1197 k3_t6
  let v1840 : Index := Scalar.indexCast arg13
  let c48_1209 : Index := 48#32
  ![v1840.toNat, 48]
@[reducible] def k3_t7_loop (i : grid3.Coords) (v298 : BitVec 32) (v304 : BitVec 32) : Scf.Loop 32 :=
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let c256_i32_304 : BitVec 32 := 256#32
  let c0_i32_303 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c0_i32_302 : BitVec 32 := 0#32
  let v656 : BitVec 32 := Scalar.subi v308 c0_i32_302
  let v657 : BitVec 32 := Scalar.maxsi c0_i32_303 v656
  let v658 : BitVec 32 := Scalar.minsi c256_i32_304 v657
  let v1805 : BitVec 32 := Scalar.subi v658 v655
  let c1_i32_1195 : BitVec 32 := 1#32
  let v1807 : BitVec 32 := Scalar.divsi v1805 c1_i32_1195
  let v1808 : BitVec 32 := Scalar.muli v1807 c1_i32_1195
  let v1809 : BitVec 32 := Scalar.addi v655 v1808
  let c1_i32_1196 : BitVec 32 := 1#32
  ⟨v655, v1809, c1_i32_1196⟩
def k3_cond4 (i : grid3.Coords) (v298 : BitVec 32) (v304 : BitVec 32) : BitVec 1 :=
  let c256_i32_304 : BitVec 32 := 256#32
  let c0_i32_303 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v306 : BitVec 32 := Scalar.subi v305 v3
  let v307 : BitVec 32 := Scalar.maxsi c0_i32_128 v306
  let v308 : BitVec 32 := Scalar.minsi c1024_i32_129 v307
  let c0_i32_302 : BitVec 32 := 0#32
  let v656 : BitVec 32 := Scalar.subi v308 c0_i32_302
  let v657 : BitVec 32 := Scalar.maxsi c0_i32_303 v656
  let v658 : BitVec 32 := Scalar.minsi c256_i32_304 v657
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let v659 : BitVec 1 := Scalar.cmpi .sgt v658 v655
  let v660 : BitVec 32 := Scalar.extui v659
  let c0_i32_305 : BitVec 32 := 0#32
  let v661 : BitVec 1 := Scalar.cmpi .ne v660 c0_i32_305
  v661

def k3_off26 (i : grid3.Coords) (v298 : BitVec 32) (v304 : BitVec 32) (k3_t7 : Fin (k3_t7_loop i v298 v304).trips) : Fin 2 → Nat :=
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let c1_i32_1196 : BitVec 32 := 1#32
  let arg13 : BitVec 32 := Scf.iv v655 c1_i32_1196 k3_t7
  let v1828 : Index := Scalar.indexCast arg13
  let c64 : Index := 64#32
  ![v1828.toNat, 64]
def k3_off27 (i : grid3.Coords) (v298 : BitVec 32) (v304 : BitVec 32) (k3_t7 : Fin (k3_t7_loop i v298 v304).trips) : Fin 2 → Nat :=
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let c1_i32_1196 : BitVec 32 := 1#32
  let arg13 : BitVec 32 := Scf.iv v655 c1_i32_1196 k3_t7
  let v1832 : Index := Scalar.indexCast arg13
  let c80 : Index := 80#32
  ![v1832.toNat, 80]
def k3_off28 (i : grid3.Coords) (v298 : BitVec 32) (v304 : BitVec 32) (k3_t7 : Fin (k3_t7_loop i v298 v304).trips) : Fin 2 → Nat :=
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let c1_i32_1196 : BitVec 32 := 1#32
  let arg13 : BitVec 32 := Scf.iv v655 c1_i32_1196 k3_t7
  let v1836 : Index := Scalar.indexCast arg13
  let c96 : Index := 96#32
  ![v1836.toNat, 96]
def k3_off29 (i : grid3.Coords) (v298 : BitVec 32) (v304 : BitVec 32) (k3_t7 : Fin (k3_t7_loop i v298 v304).trips) : Fin 2 → Nat :=
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let c1_i32_1196 : BitVec 32 := 1#32
  let arg13 : BitVec 32 := Scf.iv v655 c1_i32_1196 k3_t7
  let v1840 : Index := Scalar.indexCast arg13
  let c112 : Index := 112#32
  ![v1840.toNat, 112]
@[reducible] def k3_t8_loop (i : grid3.Coords) (v298 : BitVec 32) (v304 : BitVec 32) : Scf.Loop 32 :=
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let c256_i32_304 : BitVec 32 := 256#32
  let c0_i32_303 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c0_i32_302 : BitVec 32 := 0#32
  let v656 : BitVec 32 := Scalar.subi v308 c0_i32_302
  let v657 : BitVec 32 := Scalar.maxsi c0_i32_303 v656
  let v658 : BitVec 32 := Scalar.minsi c256_i32_304 v657
  let v1805 : BitVec 32 := Scalar.subi v658 v655
  let c1_i32_1195 : BitVec 32 := 1#32
  let v1807 : BitVec 32 := Scalar.divsi v1805 c1_i32_1195
  let v1808 : BitVec 32 := Scalar.muli v1807 c1_i32_1195
  let v1809 : BitVec 32 := Scalar.addi v655 v1808
  let v1806 : BitVec 32 := Scalar.addi v655 v1805
  let c1_i32_1197 : BitVec 32 := 1#32
  ⟨v1809, v1806, c1_i32_1197⟩
def k3_off30 (i : grid3.Coords) (v298 : BitVec 32) (v304 : BitVec 32) (k3_t8 : Fin (k3_t8_loop i v298 v304).trips) : Fin 2 → Nat :=
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let c256_i32_304 : BitVec 32 := 256#32
  let c0_i32_303 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c0_i32_302 : BitVec 32 := 0#32
  let v656 : BitVec 32 := Scalar.subi v308 c0_i32_302
  let v657 : BitVec 32 := Scalar.maxsi c0_i32_303 v656
  let v658 : BitVec 32 := Scalar.minsi c256_i32_304 v657
  let v1805 : BitVec 32 := Scalar.subi v658 v655
  let c1_i32_1195 : BitVec 32 := 1#32
  let v1807 : BitVec 32 := Scalar.divsi v1805 c1_i32_1195
  let v1808 : BitVec 32 := Scalar.muli v1807 c1_i32_1195
  let v1809 : BitVec 32 := Scalar.addi v655 v1808
  let c1_i32_1197 : BitVec 32 := 1#32
  let arg13 : BitVec 32 := Scf.iv v1809 c1_i32_1197 k3_t8
  let v1828 : Index := Scalar.indexCast arg13
  let c64 : Index := 64#32
  ![v1828.toNat, 64]
def k3_off31 (i : grid3.Coords) (v298 : BitVec 32) (v304 : BitVec 32) (k3_t8 : Fin (k3_t8_loop i v298 v304).trips) : Fin 2 → Nat :=
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let c256_i32_304 : BitVec 32 := 256#32
  let c0_i32_303 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c0_i32_302 : BitVec 32 := 0#32
  let v656 : BitVec 32 := Scalar.subi v308 c0_i32_302
  let v657 : BitVec 32 := Scalar.maxsi c0_i32_303 v656
  let v658 : BitVec 32 := Scalar.minsi c256_i32_304 v657
  let v1805 : BitVec 32 := Scalar.subi v658 v655
  let c1_i32_1195 : BitVec 32 := 1#32
  let v1807 : BitVec 32 := Scalar.divsi v1805 c1_i32_1195
  let v1808 : BitVec 32 := Scalar.muli v1807 c1_i32_1195
  let v1809 : BitVec 32 := Scalar.addi v655 v1808
  let c1_i32_1197 : BitVec 32 := 1#32
  let arg13 : BitVec 32 := Scf.iv v1809 c1_i32_1197 k3_t8
  let v1832 : Index := Scalar.indexCast arg13
  let c80 : Index := 80#32
  ![v1832.toNat, 80]
def k3_off32 (i : grid3.Coords) (v298 : BitVec 32) (v304 : BitVec 32) (k3_t8 : Fin (k3_t8_loop i v298 v304).trips) : Fin 2 → Nat :=
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let c256_i32_304 : BitVec 32 := 256#32
  let c0_i32_303 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c0_i32_302 : BitVec 32 := 0#32
  let v656 : BitVec 32 := Scalar.subi v308 c0_i32_302
  let v657 : BitVec 32 := Scalar.maxsi c0_i32_303 v656
  let v658 : BitVec 32 := Scalar.minsi c256_i32_304 v657
  let v1805 : BitVec 32 := Scalar.subi v658 v655
  let c1_i32_1195 : BitVec 32 := 1#32
  let v1807 : BitVec 32 := Scalar.divsi v1805 c1_i32_1195
  let v1808 : BitVec 32 := Scalar.muli v1807 c1_i32_1195
  let v1809 : BitVec 32 := Scalar.addi v655 v1808
  let c1_i32_1197 : BitVec 32 := 1#32
  let arg13 : BitVec 32 := Scf.iv v1809 c1_i32_1197 k3_t8
  let v1836 : Index := Scalar.indexCast arg13
  let c96 : Index := 96#32
  ![v1836.toNat, 96]
def k3_off33 (i : grid3.Coords) (v298 : BitVec 32) (v304 : BitVec 32) (k3_t8 : Fin (k3_t8_loop i v298 v304).trips) : Fin 2 → Nat :=
  let c256_i32_301 : BitVec 32 := 256#32
  let c0_i32_300 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c0_i32_299 : BitVec 32 := 0#32
  let v653 : BitVec 32 := Scalar.subi v302 c0_i32_299
  let v654 : BitVec 32 := Scalar.maxsi c0_i32_300 v653
  let v655 : BitVec 32 := Scalar.minsi c256_i32_301 v654
  let c256_i32_304 : BitVec 32 := 256#32
  let c0_i32_303 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c0_i32_302 : BitVec 32 := 0#32
  let v656 : BitVec 32 := Scalar.subi v308 c0_i32_302
  let v657 : BitVec 32 := Scalar.maxsi c0_i32_303 v656
  let v658 : BitVec 32 := Scalar.minsi c256_i32_304 v657
  let v1805 : BitVec 32 := Scalar.subi v658 v655
  let c1_i32_1195 : BitVec 32 := 1#32
  let v1807 : BitVec 32 := Scalar.divsi v1805 c1_i32_1195
  let v1808 : BitVec 32 := Scalar.muli v1807 c1_i32_1195
  let v1809 : BitVec 32 := Scalar.addi v655 v1808
  let c1_i32_1197 : BitVec 32 := 1#32
  let arg13 : BitVec 32 := Scf.iv v1809 c1_i32_1197 k3_t8
  let v1840 : Index := Scalar.indexCast arg13
  let c112 : Index := 112#32
  ![v1840.toNat, 112]
@[reducible] def k3_t9_loop (i : grid3.Coords) (v310 : BitVec 32) (v315 : BitVec 32) : Scf.Loop 32 :=
  let c256_i32_308 : BitVec 32 := 256#32
  let c0_i32_307 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let c256_i32_311 : BitVec 32 := 256#32
  let c0_i32_310 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c0_i32_309 : BitVec 32 := 0#32
  let v665 : BitVec 32 := Scalar.subi v318 c0_i32_309
  let v666 : BitVec 32 := Scalar.maxsi c0_i32_310 v665
  let v667 : BitVec 32 := Scalar.minsi c256_i32_311 v666
  let v1805 : BitVec 32 := Scalar.subi v667 v664
  let c1_i32_1195 : BitVec 32 := 1#32
  let v1807 : BitVec 32 := Scalar.divsi v1805 c1_i32_1195
  let v1808 : BitVec 32 := Scalar.muli v1807 c1_i32_1195
  let v1809 : BitVec 32 := Scalar.addi v664 v1808
  let c1_i32_1196 : BitVec 32 := 1#32
  ⟨v664, v1809, c1_i32_1196⟩
def k3_cond5 (i : grid3.Coords) (v310 : BitVec 32) (v315 : BitVec 32) : BitVec 1 :=
  let c256_i32_311 : BitVec 32 := 256#32
  let c0_i32_310 : BitVec 32 := 0#32
  let c1024_i32_133 : BitVec 32 := 1024#32
  let c0_i32_132 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v316 : BitVec 32 := Scalar.subi v315 v3
  let v317 : BitVec 32 := Scalar.maxsi c0_i32_132 v316
  let v318 : BitVec 32 := Scalar.minsi c1024_i32_133 v317
  let c0_i32_309 : BitVec 32 := 0#32
  let v665 : BitVec 32 := Scalar.subi v318 c0_i32_309
  let v666 : BitVec 32 := Scalar.maxsi c0_i32_310 v665
  let v667 : BitVec 32 := Scalar.minsi c256_i32_311 v666
  let c256_i32_308 : BitVec 32 := 256#32
  let c0_i32_307 : BitVec 32 := 0#32
  let c1024_i32_131 : BitVec 32 := 1024#32
  let c0_i32_130 : BitVec 32 := 0#32
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let v668 : BitVec 1 := Scalar.cmpi .sgt v667 v664
  let v669 : BitVec 32 := Scalar.extui v668
  let c0_i32_312 : BitVec 32 := 0#32
  let v670 : BitVec 1 := Scalar.cmpi .ne v669 c0_i32_312
  v670

def k3_off34 (i : grid3.Coords) (v310 : BitVec 32) (v315 : BitVec 32) (k3_t9 : Fin (k3_t9_loop i v310 v315).trips) : Fin 2 → Nat :=
  let c256_i32_308 : BitVec 32 := 256#32
  let c0_i32_307 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let c1_i32_1196 : BitVec 32 := 1#32
  let arg13 : BitVec 32 := Scf.iv v664 c1_i32_1196 k3_t9
  let v1828 : Index := Scalar.indexCast arg13
  let c0_1206 : Index := 0#32
  ![v1828.toNat, 0]
def k3_off35 (i : grid3.Coords) (v310 : BitVec 32) (v315 : BitVec 32) (k3_t9 : Fin (k3_t9_loop i v310 v315).trips) : Fin 2 → Nat :=
  let c256_i32_308 : BitVec 32 := 256#32
  let c0_i32_307 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let c1_i32_1196 : BitVec 32 := 1#32
  let arg13 : BitVec 32 := Scf.iv v664 c1_i32_1196 k3_t9
  let v1832 : Index := Scalar.indexCast arg13
  let c16_1207 : Index := 16#32
  ![v1832.toNat, 16]
def k3_off36 (i : grid3.Coords) (v310 : BitVec 32) (v315 : BitVec 32) (k3_t9 : Fin (k3_t9_loop i v310 v315).trips) : Fin 2 → Nat :=
  let c256_i32_308 : BitVec 32 := 256#32
  let c0_i32_307 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let c1_i32_1196 : BitVec 32 := 1#32
  let arg13 : BitVec 32 := Scf.iv v664 c1_i32_1196 k3_t9
  let v1836 : Index := Scalar.indexCast arg13
  let c32_1208 : Index := 32#32
  ![v1836.toNat, 32]
def k3_off37 (i : grid3.Coords) (v310 : BitVec 32) (v315 : BitVec 32) (k3_t9 : Fin (k3_t9_loop i v310 v315).trips) : Fin 2 → Nat :=
  let c256_i32_308 : BitVec 32 := 256#32
  let c0_i32_307 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let c1_i32_1196 : BitVec 32 := 1#32
  let arg13 : BitVec 32 := Scf.iv v664 c1_i32_1196 k3_t9
  let v1840 : Index := Scalar.indexCast arg13
  let c48_1209 : Index := 48#32
  ![v1840.toNat, 48]
@[reducible] def k3_t10_loop (i : grid3.Coords) (v310 : BitVec 32) (v315 : BitVec 32) : Scf.Loop 32 :=
  let c256_i32_308 : BitVec 32 := 256#32
  let c0_i32_307 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let c256_i32_311 : BitVec 32 := 256#32
  let c0_i32_310 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c0_i32_309 : BitVec 32 := 0#32
  let v665 : BitVec 32 := Scalar.subi v318 c0_i32_309
  let v666 : BitVec 32 := Scalar.maxsi c0_i32_310 v665
  let v667 : BitVec 32 := Scalar.minsi c256_i32_311 v666
  let v1805 : BitVec 32 := Scalar.subi v667 v664
  let c1_i32_1195 : BitVec 32 := 1#32
  let v1807 : BitVec 32 := Scalar.divsi v1805 c1_i32_1195
  let v1808 : BitVec 32 := Scalar.muli v1807 c1_i32_1195
  let v1809 : BitVec 32 := Scalar.addi v664 v1808
  let v1806 : BitVec 32 := Scalar.addi v664 v1805
  let c1_i32_1197 : BitVec 32 := 1#32
  ⟨v1809, v1806, c1_i32_1197⟩
def k3_off38 (i : grid3.Coords) (v310 : BitVec 32) (v315 : BitVec 32) (k3_t10 : Fin (k3_t10_loop i v310 v315).trips) : Fin 2 → Nat :=
  let c256_i32_308 : BitVec 32 := 256#32
  let c0_i32_307 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let c256_i32_311 : BitVec 32 := 256#32
  let c0_i32_310 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c0_i32_309 : BitVec 32 := 0#32
  let v665 : BitVec 32 := Scalar.subi v318 c0_i32_309
  let v666 : BitVec 32 := Scalar.maxsi c0_i32_310 v665
  let v667 : BitVec 32 := Scalar.minsi c256_i32_311 v666
  let v1805 : BitVec 32 := Scalar.subi v667 v664
  let c1_i32_1195 : BitVec 32 := 1#32
  let v1807 : BitVec 32 := Scalar.divsi v1805 c1_i32_1195
  let v1808 : BitVec 32 := Scalar.muli v1807 c1_i32_1195
  let v1809 : BitVec 32 := Scalar.addi v664 v1808
  let c1_i32_1197 : BitVec 32 := 1#32
  let arg13 : BitVec 32 := Scf.iv v1809 c1_i32_1197 k3_t10
  let v1828 : Index := Scalar.indexCast arg13
  let c0_1206 : Index := 0#32
  ![v1828.toNat, 0]
def k3_off39 (i : grid3.Coords) (v310 : BitVec 32) (v315 : BitVec 32) (k3_t10 : Fin (k3_t10_loop i v310 v315).trips) : Fin 2 → Nat :=
  let c256_i32_308 : BitVec 32 := 256#32
  let c0_i32_307 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let c256_i32_311 : BitVec 32 := 256#32
  let c0_i32_310 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c0_i32_309 : BitVec 32 := 0#32
  let v665 : BitVec 32 := Scalar.subi v318 c0_i32_309
  let v666 : BitVec 32 := Scalar.maxsi c0_i32_310 v665
  let v667 : BitVec 32 := Scalar.minsi c256_i32_311 v666
  let v1805 : BitVec 32 := Scalar.subi v667 v664
  let c1_i32_1195 : BitVec 32 := 1#32
  let v1807 : BitVec 32 := Scalar.divsi v1805 c1_i32_1195
  let v1808 : BitVec 32 := Scalar.muli v1807 c1_i32_1195
  let v1809 : BitVec 32 := Scalar.addi v664 v1808
  let c1_i32_1197 : BitVec 32 := 1#32
  let arg13 : BitVec 32 := Scf.iv v1809 c1_i32_1197 k3_t10
  let v1832 : Index := Scalar.indexCast arg13
  let c16_1207 : Index := 16#32
  ![v1832.toNat, 16]
def k3_off40 (i : grid3.Coords) (v310 : BitVec 32) (v315 : BitVec 32) (k3_t10 : Fin (k3_t10_loop i v310 v315).trips) : Fin 2 → Nat :=
  let c256_i32_308 : BitVec 32 := 256#32
  let c0_i32_307 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let c256_i32_311 : BitVec 32 := 256#32
  let c0_i32_310 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c0_i32_309 : BitVec 32 := 0#32
  let v665 : BitVec 32 := Scalar.subi v318 c0_i32_309
  let v666 : BitVec 32 := Scalar.maxsi c0_i32_310 v665
  let v667 : BitVec 32 := Scalar.minsi c256_i32_311 v666
  let v1805 : BitVec 32 := Scalar.subi v667 v664
  let c1_i32_1195 : BitVec 32 := 1#32
  let v1807 : BitVec 32 := Scalar.divsi v1805 c1_i32_1195
  let v1808 : BitVec 32 := Scalar.muli v1807 c1_i32_1195
  let v1809 : BitVec 32 := Scalar.addi v664 v1808
  let c1_i32_1197 : BitVec 32 := 1#32
  let arg13 : BitVec 32 := Scf.iv v1809 c1_i32_1197 k3_t10
  let v1836 : Index := Scalar.indexCast arg13
  let c32_1208 : Index := 32#32
  ![v1836.toNat, 32]
def k3_off41 (i : grid3.Coords) (v310 : BitVec 32) (v315 : BitVec 32) (k3_t10 : Fin (k3_t10_loop i v310 v315).trips) : Fin 2 → Nat :=
  let c256_i32_308 : BitVec 32 := 256#32
  let c0_i32_307 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c0_i32_306 : BitVec 32 := 0#32
  let v662 : BitVec 32 := Scalar.subi v313 c0_i32_306
  let v663 : BitVec 32 := Scalar.maxsi c0_i32_307 v662
  let v664 : BitVec 32 := Scalar.minsi c256_i32_308 v663
  let c256_i32_311 : BitVec 32 := 256#32
  let c0_i32_310 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c0_i32_309 : BitVec 32 := 0#32
  let v665 : BitVec 32 := Scalar.subi v318 c0_i32_309
  let v666 : BitVec 32 := Scalar.maxsi c0_i32_310 v665
  let v667 : BitVec 32 := Scalar.minsi c256_i32_311 v666
  let v1805 : BitVec 32 := Scalar.subi v667 v664
  let c1_i32_1195 : BitVec 32 := 1#32
  let v1807 : BitVec 32 := Scalar.divsi v1805 c1_i32_1195
  let v1808 : BitVec 32 := Scalar.muli v1807 c1_i32_1195
  let v1809 : BitVec 32 := Scalar.addi v664 v1808
  let c1_i32_1197 : BitVec 32 := 1#32
  let arg13 : BitVec 32 := Scf.iv v1809 c1_i32_1197 k3_t10
  let v1840 : Index := Scalar.indexCast arg13
  let c48_1209 : Index := 48#32
  ![v1840.toNat, 48]
@[reducible] def k3_t11_loop (i : grid3.Coords) (v320 : BitVec 32) (v326 : BitVec 32) : Scf.Loop 32 :=
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let c256_i32_318 : BitVec 32 := 256#32
  let c0_i32_317 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c0_i32_316 : BitVec 32 := 0#32
  let v674 : BitVec 32 := Scalar.subi v330 c0_i32_316
  let v675 : BitVec 32 := Scalar.maxsi c0_i32_317 v674
  let v676 : BitVec 32 := Scalar.minsi c256_i32_318 v675
  let v1805 : BitVec 32 := Scalar.subi v676 v673
  let c1_i32_1195 : BitVec 32 := 1#32
  let v1807 : BitVec 32 := Scalar.divsi v1805 c1_i32_1195
  let v1808 : BitVec 32 := Scalar.muli v1807 c1_i32_1195
  let v1809 : BitVec 32 := Scalar.addi v673 v1808
  let c1_i32_1196 : BitVec 32 := 1#32
  ⟨v673, v1809, c1_i32_1196⟩
def k3_cond6 (i : grid3.Coords) (v320 : BitVec 32) (v326 : BitVec 32) : BitVec 1 :=
  let c256_i32_318 : BitVec 32 := 256#32
  let c0_i32_317 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v328 : BitVec 32 := Scalar.subi v327 v3
  let v329 : BitVec 32 := Scalar.maxsi c0_i32_138 v328
  let v330 : BitVec 32 := Scalar.minsi c1024_i32_139 v329
  let c0_i32_316 : BitVec 32 := 0#32
  let v674 : BitVec 32 := Scalar.subi v330 c0_i32_316
  let v675 : BitVec 32 := Scalar.maxsi c0_i32_317 v674
  let v676 : BitVec 32 := Scalar.minsi c256_i32_318 v675
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let v677 : BitVec 1 := Scalar.cmpi .sgt v676 v673
  let v678 : BitVec 32 := Scalar.extui v677
  let c0_i32_319 : BitVec 32 := 0#32
  let v679 : BitVec 1 := Scalar.cmpi .ne v678 c0_i32_319
  v679

def k3_off42 (i : grid3.Coords) (v320 : BitVec 32) (v326 : BitVec 32) (k3_t11 : Fin (k3_t11_loop i v320 v326).trips) : Fin 2 → Nat :=
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let c1_i32_1196 : BitVec 32 := 1#32
  let arg13 : BitVec 32 := Scf.iv v673 c1_i32_1196 k3_t11
  let v1828 : Index := Scalar.indexCast arg13
  let c64 : Index := 64#32
  ![v1828.toNat, 64]
def k3_off43 (i : grid3.Coords) (v320 : BitVec 32) (v326 : BitVec 32) (k3_t11 : Fin (k3_t11_loop i v320 v326).trips) : Fin 2 → Nat :=
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let c1_i32_1196 : BitVec 32 := 1#32
  let arg13 : BitVec 32 := Scf.iv v673 c1_i32_1196 k3_t11
  let v1832 : Index := Scalar.indexCast arg13
  let c80 : Index := 80#32
  ![v1832.toNat, 80]
def k3_off44 (i : grid3.Coords) (v320 : BitVec 32) (v326 : BitVec 32) (k3_t11 : Fin (k3_t11_loop i v320 v326).trips) : Fin 2 → Nat :=
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let c1_i32_1196 : BitVec 32 := 1#32
  let arg13 : BitVec 32 := Scf.iv v673 c1_i32_1196 k3_t11
  let v1836 : Index := Scalar.indexCast arg13
  let c96 : Index := 96#32
  ![v1836.toNat, 96]
def k3_off45 (i : grid3.Coords) (v320 : BitVec 32) (v326 : BitVec 32) (k3_t11 : Fin (k3_t11_loop i v320 v326).trips) : Fin 2 → Nat :=
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let c1_i32_1196 : BitVec 32 := 1#32
  let arg13 : BitVec 32 := Scf.iv v673 c1_i32_1196 k3_t11
  let v1840 : Index := Scalar.indexCast arg13
  let c112 : Index := 112#32
  ![v1840.toNat, 112]
@[reducible] def k3_t12_loop (i : grid3.Coords) (v320 : BitVec 32) (v326 : BitVec 32) : Scf.Loop 32 :=
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let c256_i32_318 : BitVec 32 := 256#32
  let c0_i32_317 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c0_i32_316 : BitVec 32 := 0#32
  let v674 : BitVec 32 := Scalar.subi v330 c0_i32_316
  let v675 : BitVec 32 := Scalar.maxsi c0_i32_317 v674
  let v676 : BitVec 32 := Scalar.minsi c256_i32_318 v675
  let v1805 : BitVec 32 := Scalar.subi v676 v673
  let c1_i32_1195 : BitVec 32 := 1#32
  let v1807 : BitVec 32 := Scalar.divsi v1805 c1_i32_1195
  let v1808 : BitVec 32 := Scalar.muli v1807 c1_i32_1195
  let v1809 : BitVec 32 := Scalar.addi v673 v1808
  let v1806 : BitVec 32 := Scalar.addi v673 v1805
  let c1_i32_1197 : BitVec 32 := 1#32
  ⟨v1809, v1806, c1_i32_1197⟩
def k3_off46 (i : grid3.Coords) (v320 : BitVec 32) (v326 : BitVec 32) (k3_t12 : Fin (k3_t12_loop i v320 v326).trips) : Fin 2 → Nat :=
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let c256_i32_318 : BitVec 32 := 256#32
  let c0_i32_317 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c0_i32_316 : BitVec 32 := 0#32
  let v674 : BitVec 32 := Scalar.subi v330 c0_i32_316
  let v675 : BitVec 32 := Scalar.maxsi c0_i32_317 v674
  let v676 : BitVec 32 := Scalar.minsi c256_i32_318 v675
  let v1805 : BitVec 32 := Scalar.subi v676 v673
  let c1_i32_1195 : BitVec 32 := 1#32
  let v1807 : BitVec 32 := Scalar.divsi v1805 c1_i32_1195
  let v1808 : BitVec 32 := Scalar.muli v1807 c1_i32_1195
  let v1809 : BitVec 32 := Scalar.addi v673 v1808
  let c1_i32_1197 : BitVec 32 := 1#32
  let arg13 : BitVec 32 := Scf.iv v1809 c1_i32_1197 k3_t12
  let v1828 : Index := Scalar.indexCast arg13
  let c64 : Index := 64#32
  ![v1828.toNat, 64]
def k3_off47 (i : grid3.Coords) (v320 : BitVec 32) (v326 : BitVec 32) (k3_t12 : Fin (k3_t12_loop i v320 v326).trips) : Fin 2 → Nat :=
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let c256_i32_318 : BitVec 32 := 256#32
  let c0_i32_317 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c0_i32_316 : BitVec 32 := 0#32
  let v674 : BitVec 32 := Scalar.subi v330 c0_i32_316
  let v675 : BitVec 32 := Scalar.maxsi c0_i32_317 v674
  let v676 : BitVec 32 := Scalar.minsi c256_i32_318 v675
  let v1805 : BitVec 32 := Scalar.subi v676 v673
  let c1_i32_1195 : BitVec 32 := 1#32
  let v1807 : BitVec 32 := Scalar.divsi v1805 c1_i32_1195
  let v1808 : BitVec 32 := Scalar.muli v1807 c1_i32_1195
  let v1809 : BitVec 32 := Scalar.addi v673 v1808
  let c1_i32_1197 : BitVec 32 := 1#32
  let arg13 : BitVec 32 := Scf.iv v1809 c1_i32_1197 k3_t12
  let v1832 : Index := Scalar.indexCast arg13
  let c80 : Index := 80#32
  ![v1832.toNat, 80]
def k3_off48 (i : grid3.Coords) (v320 : BitVec 32) (v326 : BitVec 32) (k3_t12 : Fin (k3_t12_loop i v320 v326).trips) : Fin 2 → Nat :=
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let c256_i32_318 : BitVec 32 := 256#32
  let c0_i32_317 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c0_i32_316 : BitVec 32 := 0#32
  let v674 : BitVec 32 := Scalar.subi v330 c0_i32_316
  let v675 : BitVec 32 := Scalar.maxsi c0_i32_317 v674
  let v676 : BitVec 32 := Scalar.minsi c256_i32_318 v675
  let v1805 : BitVec 32 := Scalar.subi v676 v673
  let c1_i32_1195 : BitVec 32 := 1#32
  let v1807 : BitVec 32 := Scalar.divsi v1805 c1_i32_1195
  let v1808 : BitVec 32 := Scalar.muli v1807 c1_i32_1195
  let v1809 : BitVec 32 := Scalar.addi v673 v1808
  let c1_i32_1197 : BitVec 32 := 1#32
  let arg13 : BitVec 32 := Scf.iv v1809 c1_i32_1197 k3_t12
  let v1836 : Index := Scalar.indexCast arg13
  let c96 : Index := 96#32
  ![v1836.toNat, 96]
def k3_off49 (i : grid3.Coords) (v320 : BitVec 32) (v326 : BitVec 32) (k3_t12 : Fin (k3_t12_loop i v320 v326).trips) : Fin 2 → Nat :=
  let c256_i32_315 : BitVec 32 := 256#32
  let c0_i32_314 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c0_i32_313 : BitVec 32 := 0#32
  let v671 : BitVec 32 := Scalar.subi v324 c0_i32_313
  let v672 : BitVec 32 := Scalar.maxsi c0_i32_314 v671
  let v673 : BitVec 32 := Scalar.minsi c256_i32_315 v672
  let c256_i32_318 : BitVec 32 := 256#32
  let c0_i32_317 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c0_i32_316 : BitVec 32 := 0#32
  let v674 : BitVec 32 := Scalar.subi v330 c0_i32_316
  let v675 : BitVec 32 := Scalar.maxsi c0_i32_317 v674
  let v676 : BitVec 32 := Scalar.minsi c256_i32_318 v675
  let v1805 : BitVec 32 := Scalar.subi v676 v673
  let c1_i32_1195 : BitVec 32 := 1#32
  let v1807 : BitVec 32 := Scalar.divsi v1805 c1_i32_1195
  let v1808 : BitVec 32 := Scalar.muli v1807 c1_i32_1195
  let v1809 : BitVec 32 := Scalar.addi v673 v1808
  let c1_i32_1197 : BitVec 32 := 1#32
  let arg13 : BitVec 32 := Scf.iv v1809 c1_i32_1197 k3_t12
  let v1840 : Index := Scalar.indexCast arg13
  let c112 : Index := 112#32
  ![v1840.toNat, 112]
@[reducible] def k3_t13_loop (i : grid3.Coords) (v332 : BitVec 32) (v337 : BitVec 32) : Scf.Loop 32 :=
  let c256_i32_322 : BitVec 32 := 256#32
  let c0_i32_321 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let c256_i32_325 : BitVec 32 := 256#32
  let c0_i32_324 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c0_i32_323 : BitVec 32 := 0#32
  let v683 : BitVec 32 := Scalar.subi v340 c0_i32_323
  let v684 : BitVec 32 := Scalar.maxsi c0_i32_324 v683
  let v685 : BitVec 32 := Scalar.minsi c256_i32_325 v684
  let v1805 : BitVec 32 := Scalar.subi v685 v682
  let c1_i32_1195 : BitVec 32 := 1#32
  let v1807 : BitVec 32 := Scalar.divsi v1805 c1_i32_1195
  let v1808 : BitVec 32 := Scalar.muli v1807 c1_i32_1195
  let v1809 : BitVec 32 := Scalar.addi v682 v1808
  let c1_i32_1196 : BitVec 32 := 1#32
  ⟨v682, v1809, c1_i32_1196⟩
def k3_cond7 (i : grid3.Coords) (v332 : BitVec 32) (v337 : BitVec 32) : BitVec 1 :=
  let c256_i32_325 : BitVec 32 := 256#32
  let c0_i32_324 : BitVec 32 := 0#32
  let c1024_i32_143 : BitVec 32 := 1024#32
  let c0_i32_142 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v338 : BitVec 32 := Scalar.subi v337 v3
  let v339 : BitVec 32 := Scalar.maxsi c0_i32_142 v338
  let v340 : BitVec 32 := Scalar.minsi c1024_i32_143 v339
  let c0_i32_323 : BitVec 32 := 0#32
  let v683 : BitVec 32 := Scalar.subi v340 c0_i32_323
  let v684 : BitVec 32 := Scalar.maxsi c0_i32_324 v683
  let v685 : BitVec 32 := Scalar.minsi c256_i32_325 v684
  let c256_i32_322 : BitVec 32 := 256#32
  let c0_i32_321 : BitVec 32 := 0#32
  let c1024_i32_141 : BitVec 32 := 1024#32
  let c0_i32_140 : BitVec 32 := 0#32
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let v686 : BitVec 1 := Scalar.cmpi .sgt v685 v682
  let v687 : BitVec 32 := Scalar.extui v686
  let c0_i32_326 : BitVec 32 := 0#32
  let v688 : BitVec 1 := Scalar.cmpi .ne v687 c0_i32_326
  v688

def k3_off50 (i : grid3.Coords) (v332 : BitVec 32) (v337 : BitVec 32) (k3_t13 : Fin (k3_t13_loop i v332 v337).trips) : Fin 2 → Nat :=
  let c256_i32_322 : BitVec 32 := 256#32
  let c0_i32_321 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let c1_i32_1196 : BitVec 32 := 1#32
  let arg13 : BitVec 32 := Scf.iv v682 c1_i32_1196 k3_t13
  let v1828 : Index := Scalar.indexCast arg13
  let c0_1206 : Index := 0#32
  ![v1828.toNat, 0]
def k3_off51 (i : grid3.Coords) (v332 : BitVec 32) (v337 : BitVec 32) (k3_t13 : Fin (k3_t13_loop i v332 v337).trips) : Fin 2 → Nat :=
  let c256_i32_322 : BitVec 32 := 256#32
  let c0_i32_321 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let c1_i32_1196 : BitVec 32 := 1#32
  let arg13 : BitVec 32 := Scf.iv v682 c1_i32_1196 k3_t13
  let v1832 : Index := Scalar.indexCast arg13
  let c16_1207 : Index := 16#32
  ![v1832.toNat, 16]
def k3_off52 (i : grid3.Coords) (v332 : BitVec 32) (v337 : BitVec 32) (k3_t13 : Fin (k3_t13_loop i v332 v337).trips) : Fin 2 → Nat :=
  let c256_i32_322 : BitVec 32 := 256#32
  let c0_i32_321 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let c1_i32_1196 : BitVec 32 := 1#32
  let arg13 : BitVec 32 := Scf.iv v682 c1_i32_1196 k3_t13
  let v1836 : Index := Scalar.indexCast arg13
  let c32_1208 : Index := 32#32
  ![v1836.toNat, 32]
def k3_off53 (i : grid3.Coords) (v332 : BitVec 32) (v337 : BitVec 32) (k3_t13 : Fin (k3_t13_loop i v332 v337).trips) : Fin 2 → Nat :=
  let c256_i32_322 : BitVec 32 := 256#32
  let c0_i32_321 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let c1_i32_1196 : BitVec 32 := 1#32
  let arg13 : BitVec 32 := Scf.iv v682 c1_i32_1196 k3_t13
  let v1840 : Index := Scalar.indexCast arg13
  let c48_1209 : Index := 48#32
  ![v1840.toNat, 48]
@[reducible] def k3_t14_loop (i : grid3.Coords) (v332 : BitVec 32) (v337 : BitVec 32) : Scf.Loop 32 :=
  let c256_i32_322 : BitVec 32 := 256#32
  let c0_i32_321 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let c256_i32_325 : BitVec 32 := 256#32
  let c0_i32_324 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c0_i32_323 : BitVec 32 := 0#32
  let v683 : BitVec 32 := Scalar.subi v340 c0_i32_323
  let v684 : BitVec 32 := Scalar.maxsi c0_i32_324 v683
  let v685 : BitVec 32 := Scalar.minsi c256_i32_325 v684
  let v1805 : BitVec 32 := Scalar.subi v685 v682
  let c1_i32_1195 : BitVec 32 := 1#32
  let v1807 : BitVec 32 := Scalar.divsi v1805 c1_i32_1195
  let v1808 : BitVec 32 := Scalar.muli v1807 c1_i32_1195
  let v1809 : BitVec 32 := Scalar.addi v682 v1808
  let v1806 : BitVec 32 := Scalar.addi v682 v1805
  let c1_i32_1197 : BitVec 32 := 1#32
  ⟨v1809, v1806, c1_i32_1197⟩
def k3_off54 (i : grid3.Coords) (v332 : BitVec 32) (v337 : BitVec 32) (k3_t14 : Fin (k3_t14_loop i v332 v337).trips) : Fin 2 → Nat :=
  let c256_i32_322 : BitVec 32 := 256#32
  let c0_i32_321 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let c256_i32_325 : BitVec 32 := 256#32
  let c0_i32_324 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c0_i32_323 : BitVec 32 := 0#32
  let v683 : BitVec 32 := Scalar.subi v340 c0_i32_323
  let v684 : BitVec 32 := Scalar.maxsi c0_i32_324 v683
  let v685 : BitVec 32 := Scalar.minsi c256_i32_325 v684
  let v1805 : BitVec 32 := Scalar.subi v685 v682
  let c1_i32_1195 : BitVec 32 := 1#32
  let v1807 : BitVec 32 := Scalar.divsi v1805 c1_i32_1195
  let v1808 : BitVec 32 := Scalar.muli v1807 c1_i32_1195
  let v1809 : BitVec 32 := Scalar.addi v682 v1808
  let c1_i32_1197 : BitVec 32 := 1#32
  let arg13 : BitVec 32 := Scf.iv v1809 c1_i32_1197 k3_t14
  let v1828 : Index := Scalar.indexCast arg13
  let c0_1206 : Index := 0#32
  ![v1828.toNat, 0]
def k3_off55 (i : grid3.Coords) (v332 : BitVec 32) (v337 : BitVec 32) (k3_t14 : Fin (k3_t14_loop i v332 v337).trips) : Fin 2 → Nat :=
  let c256_i32_322 : BitVec 32 := 256#32
  let c0_i32_321 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let c256_i32_325 : BitVec 32 := 256#32
  let c0_i32_324 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c0_i32_323 : BitVec 32 := 0#32
  let v683 : BitVec 32 := Scalar.subi v340 c0_i32_323
  let v684 : BitVec 32 := Scalar.maxsi c0_i32_324 v683
  let v685 : BitVec 32 := Scalar.minsi c256_i32_325 v684
  let v1805 : BitVec 32 := Scalar.subi v685 v682
  let c1_i32_1195 : BitVec 32 := 1#32
  let v1807 : BitVec 32 := Scalar.divsi v1805 c1_i32_1195
  let v1808 : BitVec 32 := Scalar.muli v1807 c1_i32_1195
  let v1809 : BitVec 32 := Scalar.addi v682 v1808
  let c1_i32_1197 : BitVec 32 := 1#32
  let arg13 : BitVec 32 := Scf.iv v1809 c1_i32_1197 k3_t14
  let v1832 : Index := Scalar.indexCast arg13
  let c16_1207 : Index := 16#32
  ![v1832.toNat, 16]
def k3_off56 (i : grid3.Coords) (v332 : BitVec 32) (v337 : BitVec 32) (k3_t14 : Fin (k3_t14_loop i v332 v337).trips) : Fin 2 → Nat :=
  let c256_i32_322 : BitVec 32 := 256#32
  let c0_i32_321 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let c256_i32_325 : BitVec 32 := 256#32
  let c0_i32_324 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c0_i32_323 : BitVec 32 := 0#32
  let v683 : BitVec 32 := Scalar.subi v340 c0_i32_323
  let v684 : BitVec 32 := Scalar.maxsi c0_i32_324 v683
  let v685 : BitVec 32 := Scalar.minsi c256_i32_325 v684
  let v1805 : BitVec 32 := Scalar.subi v685 v682
  let c1_i32_1195 : BitVec 32 := 1#32
  let v1807 : BitVec 32 := Scalar.divsi v1805 c1_i32_1195
  let v1808 : BitVec 32 := Scalar.muli v1807 c1_i32_1195
  let v1809 : BitVec 32 := Scalar.addi v682 v1808
  let c1_i32_1197 : BitVec 32 := 1#32
  let arg13 : BitVec 32 := Scf.iv v1809 c1_i32_1197 k3_t14
  let v1836 : Index := Scalar.indexCast arg13
  let c32_1208 : Index := 32#32
  ![v1836.toNat, 32]
def k3_off57 (i : grid3.Coords) (v332 : BitVec 32) (v337 : BitVec 32) (k3_t14 : Fin (k3_t14_loop i v332 v337).trips) : Fin 2 → Nat :=
  let c256_i32_322 : BitVec 32 := 256#32
  let c0_i32_321 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c0_i32_320 : BitVec 32 := 0#32
  let v680 : BitVec 32 := Scalar.subi v335 c0_i32_320
  let v681 : BitVec 32 := Scalar.maxsi c0_i32_321 v680
  let v682 : BitVec 32 := Scalar.minsi c256_i32_322 v681
  let c256_i32_325 : BitVec 32 := 256#32
  let c0_i32_324 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c0_i32_323 : BitVec 32 := 0#32
  let v683 : BitVec 32 := Scalar.subi v340 c0_i32_323
  let v684 : BitVec 32 := Scalar.maxsi c0_i32_324 v683
  let v685 : BitVec 32 := Scalar.minsi c256_i32_325 v684
  let v1805 : BitVec 32 := Scalar.subi v685 v682
  let c1_i32_1195 : BitVec 32 := 1#32
  let v1807 : BitVec 32 := Scalar.divsi v1805 c1_i32_1195
  let v1808 : BitVec 32 := Scalar.muli v1807 c1_i32_1195
  let v1809 : BitVec 32 := Scalar.addi v682 v1808
  let c1_i32_1197 : BitVec 32 := 1#32
  let arg13 : BitVec 32 := Scf.iv v1809 c1_i32_1197 k3_t14
  let v1840 : Index := Scalar.indexCast arg13
  let c48_1209 : Index := 48#32
  ![v1840.toNat, 48]
@[reducible] def k3_t15_loop (i : grid3.Coords) (v342 : BitVec 32) (v348 : BitVec 32) : Scf.Loop 32 :=
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let c256_i32_332 : BitVec 32 := 256#32
  let c0_i32_331 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c0_i32_330 : BitVec 32 := 0#32
  let v692 : BitVec 32 := Scalar.subi v352 c0_i32_330
  let v693 : BitVec 32 := Scalar.maxsi c0_i32_331 v692
  let v694 : BitVec 32 := Scalar.minsi c256_i32_332 v693
  let v1805 : BitVec 32 := Scalar.subi v694 v691
  let c1_i32_1195 : BitVec 32 := 1#32
  let v1807 : BitVec 32 := Scalar.divsi v1805 c1_i32_1195
  let v1808 : BitVec 32 := Scalar.muli v1807 c1_i32_1195
  let v1809 : BitVec 32 := Scalar.addi v691 v1808
  let c1_i32_1196 : BitVec 32 := 1#32
  ⟨v691, v1809, c1_i32_1196⟩
def k3_cond8 (i : grid3.Coords) (v342 : BitVec 32) (v348 : BitVec 32) : BitVec 1 :=
  let c256_i32_332 : BitVec 32 := 256#32
  let c0_i32_331 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v350 : BitVec 32 := Scalar.subi v349 v3
  let v351 : BitVec 32 := Scalar.maxsi c0_i32_148 v350
  let v352 : BitVec 32 := Scalar.minsi c1024_i32_149 v351
  let c0_i32_330 : BitVec 32 := 0#32
  let v692 : BitVec 32 := Scalar.subi v352 c0_i32_330
  let v693 : BitVec 32 := Scalar.maxsi c0_i32_331 v692
  let v694 : BitVec 32 := Scalar.minsi c256_i32_332 v693
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let v695 : BitVec 1 := Scalar.cmpi .sgt v694 v691
  let v696 : BitVec 32 := Scalar.extui v695
  let c0_i32_333 : BitVec 32 := 0#32
  let v697 : BitVec 1 := Scalar.cmpi .ne v696 c0_i32_333
  v697

def k3_off58 (i : grid3.Coords) (v342 : BitVec 32) (v348 : BitVec 32) (k3_t15 : Fin (k3_t15_loop i v342 v348).trips) : Fin 2 → Nat :=
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let c1_i32_1196 : BitVec 32 := 1#32
  let arg13 : BitVec 32 := Scf.iv v691 c1_i32_1196 k3_t15
  let v1828 : Index := Scalar.indexCast arg13
  let c64 : Index := 64#32
  ![v1828.toNat, 64]
def k3_off59 (i : grid3.Coords) (v342 : BitVec 32) (v348 : BitVec 32) (k3_t15 : Fin (k3_t15_loop i v342 v348).trips) : Fin 2 → Nat :=
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let c1_i32_1196 : BitVec 32 := 1#32
  let arg13 : BitVec 32 := Scf.iv v691 c1_i32_1196 k3_t15
  let v1832 : Index := Scalar.indexCast arg13
  let c80 : Index := 80#32
  ![v1832.toNat, 80]
def k3_off60 (i : grid3.Coords) (v342 : BitVec 32) (v348 : BitVec 32) (k3_t15 : Fin (k3_t15_loop i v342 v348).trips) : Fin 2 → Nat :=
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let c1_i32_1196 : BitVec 32 := 1#32
  let arg13 : BitVec 32 := Scf.iv v691 c1_i32_1196 k3_t15
  let v1836 : Index := Scalar.indexCast arg13
  let c96 : Index := 96#32
  ![v1836.toNat, 96]
def k3_off61 (i : grid3.Coords) (v342 : BitVec 32) (v348 : BitVec 32) (k3_t15 : Fin (k3_t15_loop i v342 v348).trips) : Fin 2 → Nat :=
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let c1_i32_1196 : BitVec 32 := 1#32
  let arg13 : BitVec 32 := Scf.iv v691 c1_i32_1196 k3_t15
  let v1840 : Index := Scalar.indexCast arg13
  let c112 : Index := 112#32
  ![v1840.toNat, 112]
@[reducible] def k3_t16_loop (i : grid3.Coords) (v342 : BitVec 32) (v348 : BitVec 32) : Scf.Loop 32 :=
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let c256_i32_332 : BitVec 32 := 256#32
  let c0_i32_331 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c0_i32_330 : BitVec 32 := 0#32
  let v692 : BitVec 32 := Scalar.subi v352 c0_i32_330
  let v693 : BitVec 32 := Scalar.maxsi c0_i32_331 v692
  let v694 : BitVec 32 := Scalar.minsi c256_i32_332 v693
  let v1805 : BitVec 32 := Scalar.subi v694 v691
  let c1_i32_1195 : BitVec 32 := 1#32
  let v1807 : BitVec 32 := Scalar.divsi v1805 c1_i32_1195
  let v1808 : BitVec 32 := Scalar.muli v1807 c1_i32_1195
  let v1809 : BitVec 32 := Scalar.addi v691 v1808
  let v1806 : BitVec 32 := Scalar.addi v691 v1805
  let c1_i32_1197 : BitVec 32 := 1#32
  ⟨v1809, v1806, c1_i32_1197⟩
def k3_off62 (i : grid3.Coords) (v342 : BitVec 32) (v348 : BitVec 32) (k3_t16 : Fin (k3_t16_loop i v342 v348).trips) : Fin 2 → Nat :=
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let c256_i32_332 : BitVec 32 := 256#32
  let c0_i32_331 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c0_i32_330 : BitVec 32 := 0#32
  let v692 : BitVec 32 := Scalar.subi v352 c0_i32_330
  let v693 : BitVec 32 := Scalar.maxsi c0_i32_331 v692
  let v694 : BitVec 32 := Scalar.minsi c256_i32_332 v693
  let v1805 : BitVec 32 := Scalar.subi v694 v691
  let c1_i32_1195 : BitVec 32 := 1#32
  let v1807 : BitVec 32 := Scalar.divsi v1805 c1_i32_1195
  let v1808 : BitVec 32 := Scalar.muli v1807 c1_i32_1195
  let v1809 : BitVec 32 := Scalar.addi v691 v1808
  let c1_i32_1197 : BitVec 32 := 1#32
  let arg13 : BitVec 32 := Scf.iv v1809 c1_i32_1197 k3_t16
  let v1828 : Index := Scalar.indexCast arg13
  let c64 : Index := 64#32
  ![v1828.toNat, 64]
def k3_off63 (i : grid3.Coords) (v342 : BitVec 32) (v348 : BitVec 32) (k3_t16 : Fin (k3_t16_loop i v342 v348).trips) : Fin 2 → Nat :=
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let c256_i32_332 : BitVec 32 := 256#32
  let c0_i32_331 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c0_i32_330 : BitVec 32 := 0#32
  let v692 : BitVec 32 := Scalar.subi v352 c0_i32_330
  let v693 : BitVec 32 := Scalar.maxsi c0_i32_331 v692
  let v694 : BitVec 32 := Scalar.minsi c256_i32_332 v693
  let v1805 : BitVec 32 := Scalar.subi v694 v691
  let c1_i32_1195 : BitVec 32 := 1#32
  let v1807 : BitVec 32 := Scalar.divsi v1805 c1_i32_1195
  let v1808 : BitVec 32 := Scalar.muli v1807 c1_i32_1195
  let v1809 : BitVec 32 := Scalar.addi v691 v1808
  let c1_i32_1197 : BitVec 32 := 1#32
  let arg13 : BitVec 32 := Scf.iv v1809 c1_i32_1197 k3_t16
  let v1832 : Index := Scalar.indexCast arg13
  let c80 : Index := 80#32
  ![v1832.toNat, 80]
def k3_off64 (i : grid3.Coords) (v342 : BitVec 32) (v348 : BitVec 32) (k3_t16 : Fin (k3_t16_loop i v342 v348).trips) : Fin 2 → Nat :=
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let c256_i32_332 : BitVec 32 := 256#32
  let c0_i32_331 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c0_i32_330 : BitVec 32 := 0#32
  let v692 : BitVec 32 := Scalar.subi v352 c0_i32_330
  let v693 : BitVec 32 := Scalar.maxsi c0_i32_331 v692
  let v694 : BitVec 32 := Scalar.minsi c256_i32_332 v693
  let v1805 : BitVec 32 := Scalar.subi v694 v691
  let c1_i32_1195 : BitVec 32 := 1#32
  let v1807 : BitVec 32 := Scalar.divsi v1805 c1_i32_1195
  let v1808 : BitVec 32 := Scalar.muli v1807 c1_i32_1195
  let v1809 : BitVec 32 := Scalar.addi v691 v1808
  let c1_i32_1197 : BitVec 32 := 1#32
  let arg13 : BitVec 32 := Scf.iv v1809 c1_i32_1197 k3_t16
  let v1836 : Index := Scalar.indexCast arg13
  let c96 : Index := 96#32
  ![v1836.toNat, 96]
def k3_off65 (i : grid3.Coords) (v342 : BitVec 32) (v348 : BitVec 32) (k3_t16 : Fin (k3_t16_loop i v342 v348).trips) : Fin 2 → Nat :=
  let c256_i32_329 : BitVec 32 := 256#32
  let c0_i32_328 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c0_i32_327 : BitVec 32 := 0#32
  let v689 : BitVec 32 := Scalar.subi v346 c0_i32_327
  let v690 : BitVec 32 := Scalar.maxsi c0_i32_328 v689
  let v691 : BitVec 32 := Scalar.minsi c256_i32_329 v690
  let c256_i32_332 : BitVec 32 := 256#32
  let c0_i32_331 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c0_i32_330 : BitVec 32 := 0#32
  let v692 : BitVec 32 := Scalar.subi v352 c0_i32_330
  let v693 : BitVec 32 := Scalar.maxsi c0_i32_331 v692
  let v694 : BitVec 32 := Scalar.minsi c256_i32_332 v693
  let v1805 : BitVec 32 := Scalar.subi v694 v691
  let c1_i32_1195 : BitVec 32 := 1#32
  let v1807 : BitVec 32 := Scalar.divsi v1805 c1_i32_1195
  let v1808 : BitVec 32 := Scalar.muli v1807 c1_i32_1195
  let v1809 : BitVec 32 := Scalar.addi v691 v1808
  let c1_i32_1197 : BitVec 32 := 1#32
  let arg13 : BitVec 32 := Scf.iv v1809 c1_i32_1197 k3_t16
  let v1840 : Index := Scalar.indexCast arg13
  let c112 : Index := 112#32
  ![v1840.toNat, 112]
@[reducible] def k3_t17_loop (i : grid3.Coords) (v354 : BitVec 32) (v359 : BitVec 32) : Scf.Loop 32 :=
  let c256_i32_336 : BitVec 32 := 256#32
  let c0_i32_335 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let c256_i32_339 : BitVec 32 := 256#32
  let c0_i32_338 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c0_i32_337 : BitVec 32 := 0#32
  let v701 : BitVec 32 := Scalar.subi v362 c0_i32_337
  let v702 : BitVec 32 := Scalar.maxsi c0_i32_338 v701
  let v703 : BitVec 32 := Scalar.minsi c256_i32_339 v702
  let v1805 : BitVec 32 := Scalar.subi v703 v700
  let c1_i32_1195 : BitVec 32 := 1#32
  let v1807 : BitVec 32 := Scalar.divsi v1805 c1_i32_1195
  let v1808 : BitVec 32 := Scalar.muli v1807 c1_i32_1195
  let v1809 : BitVec 32 := Scalar.addi v700 v1808
  let c1_i32_1196 : BitVec 32 := 1#32
  ⟨v700, v1809, c1_i32_1196⟩
def k3_cond9 (i : grid3.Coords) (v354 : BitVec 32) (v359 : BitVec 32) : BitVec 1 :=
  let c256_i32_339 : BitVec 32 := 256#32
  let c0_i32_338 : BitVec 32 := 0#32
  let c1024_i32_153 : BitVec 32 := 1024#32
  let c0_i32_152 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v360 : BitVec 32 := Scalar.subi v359 v3
  let v361 : BitVec 32 := Scalar.maxsi c0_i32_152 v360
  let v362 : BitVec 32 := Scalar.minsi c1024_i32_153 v361
  let c0_i32_337 : BitVec 32 := 0#32
  let v701 : BitVec 32 := Scalar.subi v362 c0_i32_337
  let v702 : BitVec 32 := Scalar.maxsi c0_i32_338 v701
  let v703 : BitVec 32 := Scalar.minsi c256_i32_339 v702
  let c256_i32_336 : BitVec 32 := 256#32
  let c0_i32_335 : BitVec 32 := 0#32
  let c1024_i32_151 : BitVec 32 := 1024#32
  let c0_i32_150 : BitVec 32 := 0#32
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let v704 : BitVec 1 := Scalar.cmpi .sgt v703 v700
  let v705 : BitVec 32 := Scalar.extui v704
  let c0_i32_340 : BitVec 32 := 0#32
  let v706 : BitVec 1 := Scalar.cmpi .ne v705 c0_i32_340
  v706

def k3_off66 (i : grid3.Coords) (v354 : BitVec 32) (v359 : BitVec 32) (k3_t17 : Fin (k3_t17_loop i v354 v359).trips) : Fin 2 → Nat :=
  let c256_i32_336 : BitVec 32 := 256#32
  let c0_i32_335 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let c1_i32_1196 : BitVec 32 := 1#32
  let arg13 : BitVec 32 := Scf.iv v700 c1_i32_1196 k3_t17
  let v1828 : Index := Scalar.indexCast arg13
  let c0_1206 : Index := 0#32
  ![v1828.toNat, 0]
def k3_off67 (i : grid3.Coords) (v354 : BitVec 32) (v359 : BitVec 32) (k3_t17 : Fin (k3_t17_loop i v354 v359).trips) : Fin 2 → Nat :=
  let c256_i32_336 : BitVec 32 := 256#32
  let c0_i32_335 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let c1_i32_1196 : BitVec 32 := 1#32
  let arg13 : BitVec 32 := Scf.iv v700 c1_i32_1196 k3_t17
  let v1832 : Index := Scalar.indexCast arg13
  let c16_1207 : Index := 16#32
  ![v1832.toNat, 16]
def k3_off68 (i : grid3.Coords) (v354 : BitVec 32) (v359 : BitVec 32) (k3_t17 : Fin (k3_t17_loop i v354 v359).trips) : Fin 2 → Nat :=
  let c256_i32_336 : BitVec 32 := 256#32
  let c0_i32_335 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let c1_i32_1196 : BitVec 32 := 1#32
  let arg13 : BitVec 32 := Scf.iv v700 c1_i32_1196 k3_t17
  let v1836 : Index := Scalar.indexCast arg13
  let c32_1208 : Index := 32#32
  ![v1836.toNat, 32]
def k3_off69 (i : grid3.Coords) (v354 : BitVec 32) (v359 : BitVec 32) (k3_t17 : Fin (k3_t17_loop i v354 v359).trips) : Fin 2 → Nat :=
  let c256_i32_336 : BitVec 32 := 256#32
  let c0_i32_335 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let c1_i32_1196 : BitVec 32 := 1#32
  let arg13 : BitVec 32 := Scf.iv v700 c1_i32_1196 k3_t17
  let v1840 : Index := Scalar.indexCast arg13
  let c48_1209 : Index := 48#32
  ![v1840.toNat, 48]
@[reducible] def k3_t18_loop (i : grid3.Coords) (v354 : BitVec 32) (v359 : BitVec 32) : Scf.Loop 32 :=
  let c256_i32_336 : BitVec 32 := 256#32
  let c0_i32_335 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let c256_i32_339 : BitVec 32 := 256#32
  let c0_i32_338 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c0_i32_337 : BitVec 32 := 0#32
  let v701 : BitVec 32 := Scalar.subi v362 c0_i32_337
  let v702 : BitVec 32 := Scalar.maxsi c0_i32_338 v701
  let v703 : BitVec 32 := Scalar.minsi c256_i32_339 v702
  let v1805 : BitVec 32 := Scalar.subi v703 v700
  let c1_i32_1195 : BitVec 32 := 1#32
  let v1807 : BitVec 32 := Scalar.divsi v1805 c1_i32_1195
  let v1808 : BitVec 32 := Scalar.muli v1807 c1_i32_1195
  let v1809 : BitVec 32 := Scalar.addi v700 v1808
  let v1806 : BitVec 32 := Scalar.addi v700 v1805
  let c1_i32_1197 : BitVec 32 := 1#32
  ⟨v1809, v1806, c1_i32_1197⟩
def k3_off70 (i : grid3.Coords) (v354 : BitVec 32) (v359 : BitVec 32) (k3_t18 : Fin (k3_t18_loop i v354 v359).trips) : Fin 2 → Nat :=
  let c256_i32_336 : BitVec 32 := 256#32
  let c0_i32_335 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let c256_i32_339 : BitVec 32 := 256#32
  let c0_i32_338 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c0_i32_337 : BitVec 32 := 0#32
  let v701 : BitVec 32 := Scalar.subi v362 c0_i32_337
  let v702 : BitVec 32 := Scalar.maxsi c0_i32_338 v701
  let v703 : BitVec 32 := Scalar.minsi c256_i32_339 v702
  let v1805 : BitVec 32 := Scalar.subi v703 v700
  let c1_i32_1195 : BitVec 32 := 1#32
  let v1807 : BitVec 32 := Scalar.divsi v1805 c1_i32_1195
  let v1808 : BitVec 32 := Scalar.muli v1807 c1_i32_1195
  let v1809 : BitVec 32 := Scalar.addi v700 v1808
  let c1_i32_1197 : BitVec 32 := 1#32
  let arg13 : BitVec 32 := Scf.iv v1809 c1_i32_1197 k3_t18
  let v1828 : Index := Scalar.indexCast arg13
  let c0_1206 : Index := 0#32
  ![v1828.toNat, 0]
def k3_off71 (i : grid3.Coords) (v354 : BitVec 32) (v359 : BitVec 32) (k3_t18 : Fin (k3_t18_loop i v354 v359).trips) : Fin 2 → Nat :=
  let c256_i32_336 : BitVec 32 := 256#32
  let c0_i32_335 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let c256_i32_339 : BitVec 32 := 256#32
  let c0_i32_338 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c0_i32_337 : BitVec 32 := 0#32
  let v701 : BitVec 32 := Scalar.subi v362 c0_i32_337
  let v702 : BitVec 32 := Scalar.maxsi c0_i32_338 v701
  let v703 : BitVec 32 := Scalar.minsi c256_i32_339 v702
  let v1805 : BitVec 32 := Scalar.subi v703 v700
  let c1_i32_1195 : BitVec 32 := 1#32
  let v1807 : BitVec 32 := Scalar.divsi v1805 c1_i32_1195
  let v1808 : BitVec 32 := Scalar.muli v1807 c1_i32_1195
  let v1809 : BitVec 32 := Scalar.addi v700 v1808
  let c1_i32_1197 : BitVec 32 := 1#32
  let arg13 : BitVec 32 := Scf.iv v1809 c1_i32_1197 k3_t18
  let v1832 : Index := Scalar.indexCast arg13
  let c16_1207 : Index := 16#32
  ![v1832.toNat, 16]
def k3_off72 (i : grid3.Coords) (v354 : BitVec 32) (v359 : BitVec 32) (k3_t18 : Fin (k3_t18_loop i v354 v359).trips) : Fin 2 → Nat :=
  let c256_i32_336 : BitVec 32 := 256#32
  let c0_i32_335 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let c256_i32_339 : BitVec 32 := 256#32
  let c0_i32_338 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c0_i32_337 : BitVec 32 := 0#32
  let v701 : BitVec 32 := Scalar.subi v362 c0_i32_337
  let v702 : BitVec 32 := Scalar.maxsi c0_i32_338 v701
  let v703 : BitVec 32 := Scalar.minsi c256_i32_339 v702
  let v1805 : BitVec 32 := Scalar.subi v703 v700
  let c1_i32_1195 : BitVec 32 := 1#32
  let v1807 : BitVec 32 := Scalar.divsi v1805 c1_i32_1195
  let v1808 : BitVec 32 := Scalar.muli v1807 c1_i32_1195
  let v1809 : BitVec 32 := Scalar.addi v700 v1808
  let c1_i32_1197 : BitVec 32 := 1#32
  let arg13 : BitVec 32 := Scf.iv v1809 c1_i32_1197 k3_t18
  let v1836 : Index := Scalar.indexCast arg13
  let c32_1208 : Index := 32#32
  ![v1836.toNat, 32]
def k3_off73 (i : grid3.Coords) (v354 : BitVec 32) (v359 : BitVec 32) (k3_t18 : Fin (k3_t18_loop i v354 v359).trips) : Fin 2 → Nat :=
  let c256_i32_336 : BitVec 32 := 256#32
  let c0_i32_335 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c0_i32_334 : BitVec 32 := 0#32
  let v698 : BitVec 32 := Scalar.subi v357 c0_i32_334
  let v699 : BitVec 32 := Scalar.maxsi c0_i32_335 v698
  let v700 : BitVec 32 := Scalar.minsi c256_i32_336 v699
  let c256_i32_339 : BitVec 32 := 256#32
  let c0_i32_338 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c0_i32_337 : BitVec 32 := 0#32
  let v701 : BitVec 32 := Scalar.subi v362 c0_i32_337
  let v702 : BitVec 32 := Scalar.maxsi c0_i32_338 v701
  let v703 : BitVec 32 := Scalar.minsi c256_i32_339 v702
  let v1805 : BitVec 32 := Scalar.subi v703 v700
  let c1_i32_1195 : BitVec 32 := 1#32
  let v1807 : BitVec 32 := Scalar.divsi v1805 c1_i32_1195
  let v1808 : BitVec 32 := Scalar.muli v1807 c1_i32_1195
  let v1809 : BitVec 32 := Scalar.addi v700 v1808
  let c1_i32_1197 : BitVec 32 := 1#32
  let arg13 : BitVec 32 := Scf.iv v1809 c1_i32_1197 k3_t18
  let v1840 : Index := Scalar.indexCast arg13
  let c48_1209 : Index := 48#32
  ![v1840.toNat, 48]
@[reducible] def k3_t19_loop (i : grid3.Coords) (v364 : BitVec 32) (v370 : BitVec 32) : Scf.Loop 32 :=
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let c256_i32_346 : BitVec 32 := 256#32
  let c0_i32_345 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c0_i32_344 : BitVec 32 := 0#32
  let v710 : BitVec 32 := Scalar.subi v374 c0_i32_344
  let v711 : BitVec 32 := Scalar.maxsi c0_i32_345 v710
  let v712 : BitVec 32 := Scalar.minsi c256_i32_346 v711
  let v1805 : BitVec 32 := Scalar.subi v712 v709
  let c1_i32_1195 : BitVec 32 := 1#32
  let v1807 : BitVec 32 := Scalar.divsi v1805 c1_i32_1195
  let v1808 : BitVec 32 := Scalar.muli v1807 c1_i32_1195
  let v1809 : BitVec 32 := Scalar.addi v709 v1808
  let c1_i32_1196 : BitVec 32 := 1#32
  ⟨v709, v1809, c1_i32_1196⟩
def k3_cond10 (i : grid3.Coords) (v364 : BitVec 32) (v370 : BitVec 32) : BitVec 1 :=
  let c256_i32_346 : BitVec 32 := 256#32
  let c0_i32_345 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v372 : BitVec 32 := Scalar.subi v371 v3
  let v373 : BitVec 32 := Scalar.maxsi c0_i32_158 v372
  let v374 : BitVec 32 := Scalar.minsi c1024_i32_159 v373
  let c0_i32_344 : BitVec 32 := 0#32
  let v710 : BitVec 32 := Scalar.subi v374 c0_i32_344
  let v711 : BitVec 32 := Scalar.maxsi c0_i32_345 v710
  let v712 : BitVec 32 := Scalar.minsi c256_i32_346 v711
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let v713 : BitVec 1 := Scalar.cmpi .sgt v712 v709
  let v714 : BitVec 32 := Scalar.extui v713
  let c0_i32_347 : BitVec 32 := 0#32
  let v715 : BitVec 1 := Scalar.cmpi .ne v714 c0_i32_347
  v715

def k3_off74 (i : grid3.Coords) (v364 : BitVec 32) (v370 : BitVec 32) (k3_t19 : Fin (k3_t19_loop i v364 v370).trips) : Fin 2 → Nat :=
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let c1_i32_1196 : BitVec 32 := 1#32
  let arg13 : BitVec 32 := Scf.iv v709 c1_i32_1196 k3_t19
  let v1828 : Index := Scalar.indexCast arg13
  let c64 : Index := 64#32
  ![v1828.toNat, 64]
def k3_off75 (i : grid3.Coords) (v364 : BitVec 32) (v370 : BitVec 32) (k3_t19 : Fin (k3_t19_loop i v364 v370).trips) : Fin 2 → Nat :=
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let c1_i32_1196 : BitVec 32 := 1#32
  let arg13 : BitVec 32 := Scf.iv v709 c1_i32_1196 k3_t19
  let v1832 : Index := Scalar.indexCast arg13
  let c80 : Index := 80#32
  ![v1832.toNat, 80]
def k3_off76 (i : grid3.Coords) (v364 : BitVec 32) (v370 : BitVec 32) (k3_t19 : Fin (k3_t19_loop i v364 v370).trips) : Fin 2 → Nat :=
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let c1_i32_1196 : BitVec 32 := 1#32
  let arg13 : BitVec 32 := Scf.iv v709 c1_i32_1196 k3_t19
  let v1836 : Index := Scalar.indexCast arg13
  let c96 : Index := 96#32
  ![v1836.toNat, 96]
def k3_off77 (i : grid3.Coords) (v364 : BitVec 32) (v370 : BitVec 32) (k3_t19 : Fin (k3_t19_loop i v364 v370).trips) : Fin 2 → Nat :=
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let c1_i32_1196 : BitVec 32 := 1#32
  let arg13 : BitVec 32 := Scf.iv v709 c1_i32_1196 k3_t19
  let v1840 : Index := Scalar.indexCast arg13
  let c112 : Index := 112#32
  ![v1840.toNat, 112]
@[reducible] def k3_t20_loop (i : grid3.Coords) (v364 : BitVec 32) (v370 : BitVec 32) : Scf.Loop 32 :=
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let c256_i32_346 : BitVec 32 := 256#32
  let c0_i32_345 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c0_i32_344 : BitVec 32 := 0#32
  let v710 : BitVec 32 := Scalar.subi v374 c0_i32_344
  let v711 : BitVec 32 := Scalar.maxsi c0_i32_345 v710
  let v712 : BitVec 32 := Scalar.minsi c256_i32_346 v711
  let v1805 : BitVec 32 := Scalar.subi v712 v709
  let c1_i32_1195 : BitVec 32 := 1#32
  let v1807 : BitVec 32 := Scalar.divsi v1805 c1_i32_1195
  let v1808 : BitVec 32 := Scalar.muli v1807 c1_i32_1195
  let v1809 : BitVec 32 := Scalar.addi v709 v1808
  let v1806 : BitVec 32 := Scalar.addi v709 v1805
  let c1_i32_1197 : BitVec 32 := 1#32
  ⟨v1809, v1806, c1_i32_1197⟩
def k3_off78 (i : grid3.Coords) (v364 : BitVec 32) (v370 : BitVec 32) (k3_t20 : Fin (k3_t20_loop i v364 v370).trips) : Fin 2 → Nat :=
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let c256_i32_346 : BitVec 32 := 256#32
  let c0_i32_345 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c0_i32_344 : BitVec 32 := 0#32
  let v710 : BitVec 32 := Scalar.subi v374 c0_i32_344
  let v711 : BitVec 32 := Scalar.maxsi c0_i32_345 v710
  let v712 : BitVec 32 := Scalar.minsi c256_i32_346 v711
  let v1805 : BitVec 32 := Scalar.subi v712 v709
  let c1_i32_1195 : BitVec 32 := 1#32
  let v1807 : BitVec 32 := Scalar.divsi v1805 c1_i32_1195
  let v1808 : BitVec 32 := Scalar.muli v1807 c1_i32_1195
  let v1809 : BitVec 32 := Scalar.addi v709 v1808
  let c1_i32_1197 : BitVec 32 := 1#32
  let arg13 : BitVec 32 := Scf.iv v1809 c1_i32_1197 k3_t20
  let v1828 : Index := Scalar.indexCast arg13
  let c64 : Index := 64#32
  ![v1828.toNat, 64]
def k3_off79 (i : grid3.Coords) (v364 : BitVec 32) (v370 : BitVec 32) (k3_t20 : Fin (k3_t20_loop i v364 v370).trips) : Fin 2 → Nat :=
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let c256_i32_346 : BitVec 32 := 256#32
  let c0_i32_345 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c0_i32_344 : BitVec 32 := 0#32
  let v710 : BitVec 32 := Scalar.subi v374 c0_i32_344
  let v711 : BitVec 32 := Scalar.maxsi c0_i32_345 v710
  let v712 : BitVec 32 := Scalar.minsi c256_i32_346 v711
  let v1805 : BitVec 32 := Scalar.subi v712 v709
  let c1_i32_1195 : BitVec 32 := 1#32
  let v1807 : BitVec 32 := Scalar.divsi v1805 c1_i32_1195
  let v1808 : BitVec 32 := Scalar.muli v1807 c1_i32_1195
  let v1809 : BitVec 32 := Scalar.addi v709 v1808
  let c1_i32_1197 : BitVec 32 := 1#32
  let arg13 : BitVec 32 := Scf.iv v1809 c1_i32_1197 k3_t20
  let v1832 : Index := Scalar.indexCast arg13
  let c80 : Index := 80#32
  ![v1832.toNat, 80]
def k3_off80 (i : grid3.Coords) (v364 : BitVec 32) (v370 : BitVec 32) (k3_t20 : Fin (k3_t20_loop i v364 v370).trips) : Fin 2 → Nat :=
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let c256_i32_346 : BitVec 32 := 256#32
  let c0_i32_345 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c0_i32_344 : BitVec 32 := 0#32
  let v710 : BitVec 32 := Scalar.subi v374 c0_i32_344
  let v711 : BitVec 32 := Scalar.maxsi c0_i32_345 v710
  let v712 : BitVec 32 := Scalar.minsi c256_i32_346 v711
  let v1805 : BitVec 32 := Scalar.subi v712 v709
  let c1_i32_1195 : BitVec 32 := 1#32
  let v1807 : BitVec 32 := Scalar.divsi v1805 c1_i32_1195
  let v1808 : BitVec 32 := Scalar.muli v1807 c1_i32_1195
  let v1809 : BitVec 32 := Scalar.addi v709 v1808
  let c1_i32_1197 : BitVec 32 := 1#32
  let arg13 : BitVec 32 := Scf.iv v1809 c1_i32_1197 k3_t20
  let v1836 : Index := Scalar.indexCast arg13
  let c96 : Index := 96#32
  ![v1836.toNat, 96]
def k3_off81 (i : grid3.Coords) (v364 : BitVec 32) (v370 : BitVec 32) (k3_t20 : Fin (k3_t20_loop i v364 v370).trips) : Fin 2 → Nat :=
  let c256_i32_343 : BitVec 32 := 256#32
  let c0_i32_342 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c0_i32_341 : BitVec 32 := 0#32
  let v707 : BitVec 32 := Scalar.subi v368 c0_i32_341
  let v708 : BitVec 32 := Scalar.maxsi c0_i32_342 v707
  let v709 : BitVec 32 := Scalar.minsi c256_i32_343 v708
  let c256_i32_346 : BitVec 32 := 256#32
  let c0_i32_345 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c0_i32_344 : BitVec 32 := 0#32
  let v710 : BitVec 32 := Scalar.subi v374 c0_i32_344
  let v711 : BitVec 32 := Scalar.maxsi c0_i32_345 v710
  let v712 : BitVec 32 := Scalar.minsi c256_i32_346 v711
  let v1805 : BitVec 32 := Scalar.subi v712 v709
  let c1_i32_1195 : BitVec 32 := 1#32
  let v1807 : BitVec 32 := Scalar.divsi v1805 c1_i32_1195
  let v1808 : BitVec 32 := Scalar.muli v1807 c1_i32_1195
  let v1809 : BitVec 32 := Scalar.addi v709 v1808
  let c1_i32_1197 : BitVec 32 := 1#32
  let arg13 : BitVec 32 := Scf.iv v1809 c1_i32_1197 k3_t20
  let v1840 : Index := Scalar.indexCast arg13
  let c112 : Index := 112#32
  ![v1840.toNat, 112]
@[reducible] def k3_t21_loop (i : grid3.Coords) (v376 : BitVec 32) (v381 : BitVec 32) : Scf.Loop 32 :=
  let c256_i32_350 : BitVec 32 := 256#32
  let c0_i32_349 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let c256_i32_353 : BitVec 32 := 256#32
  let c0_i32_352 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c0_i32_351 : BitVec 32 := 0#32
  let v719 : BitVec 32 := Scalar.subi v384 c0_i32_351
  let v720 : BitVec 32 := Scalar.maxsi c0_i32_352 v719
  let v721 : BitVec 32 := Scalar.minsi c256_i32_353 v720
  let v1805 : BitVec 32 := Scalar.subi v721 v718
  let c1_i32_1195 : BitVec 32 := 1#32
  let v1807 : BitVec 32 := Scalar.divsi v1805 c1_i32_1195
  let v1808 : BitVec 32 := Scalar.muli v1807 c1_i32_1195
  let v1809 : BitVec 32 := Scalar.addi v718 v1808
  let c1_i32_1196 : BitVec 32 := 1#32
  ⟨v718, v1809, c1_i32_1196⟩
def k3_cond11 (i : grid3.Coords) (v376 : BitVec 32) (v381 : BitVec 32) : BitVec 1 :=
  let c256_i32_353 : BitVec 32 := 256#32
  let c0_i32_352 : BitVec 32 := 0#32
  let c1024_i32_163 : BitVec 32 := 1024#32
  let c0_i32_162 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v382 : BitVec 32 := Scalar.subi v381 v3
  let v383 : BitVec 32 := Scalar.maxsi c0_i32_162 v382
  let v384 : BitVec 32 := Scalar.minsi c1024_i32_163 v383
  let c0_i32_351 : BitVec 32 := 0#32
  let v719 : BitVec 32 := Scalar.subi v384 c0_i32_351
  let v720 : BitVec 32 := Scalar.maxsi c0_i32_352 v719
  let v721 : BitVec 32 := Scalar.minsi c256_i32_353 v720
  let c256_i32_350 : BitVec 32 := 256#32
  let c0_i32_349 : BitVec 32 := 0#32
  let c1024_i32_161 : BitVec 32 := 1024#32
  let c0_i32_160 : BitVec 32 := 0#32
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let v722 : BitVec 1 := Scalar.cmpi .sgt v721 v718
  let v723 : BitVec 32 := Scalar.extui v722
  let c0_i32_354 : BitVec 32 := 0#32
  let v724 : BitVec 1 := Scalar.cmpi .ne v723 c0_i32_354
  v724

def k3_off82 (i : grid3.Coords) (v376 : BitVec 32) (v381 : BitVec 32) (k3_t21 : Fin (k3_t21_loop i v376 v381).trips) : Fin 2 → Nat :=
  let c256_i32_350 : BitVec 32 := 256#32
  let c0_i32_349 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let c1_i32_1196 : BitVec 32 := 1#32
  let arg13 : BitVec 32 := Scf.iv v718 c1_i32_1196 k3_t21
  let v1828 : Index := Scalar.indexCast arg13
  let c0_1206 : Index := 0#32
  ![v1828.toNat, 0]
def k3_off83 (i : grid3.Coords) (v376 : BitVec 32) (v381 : BitVec 32) (k3_t21 : Fin (k3_t21_loop i v376 v381).trips) : Fin 2 → Nat :=
  let c256_i32_350 : BitVec 32 := 256#32
  let c0_i32_349 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let c1_i32_1196 : BitVec 32 := 1#32
  let arg13 : BitVec 32 := Scf.iv v718 c1_i32_1196 k3_t21
  let v1832 : Index := Scalar.indexCast arg13
  let c16_1207 : Index := 16#32
  ![v1832.toNat, 16]
def k3_off84 (i : grid3.Coords) (v376 : BitVec 32) (v381 : BitVec 32) (k3_t21 : Fin (k3_t21_loop i v376 v381).trips) : Fin 2 → Nat :=
  let c256_i32_350 : BitVec 32 := 256#32
  let c0_i32_349 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let c1_i32_1196 : BitVec 32 := 1#32
  let arg13 : BitVec 32 := Scf.iv v718 c1_i32_1196 k3_t21
  let v1836 : Index := Scalar.indexCast arg13
  let c32_1208 : Index := 32#32
  ![v1836.toNat, 32]
def k3_off85 (i : grid3.Coords) (v376 : BitVec 32) (v381 : BitVec 32) (k3_t21 : Fin (k3_t21_loop i v376 v381).trips) : Fin 2 → Nat :=
  let c256_i32_350 : BitVec 32 := 256#32
  let c0_i32_349 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let c1_i32_1196 : BitVec 32 := 1#32
  let arg13 : BitVec 32 := Scf.iv v718 c1_i32_1196 k3_t21
  let v1840 : Index := Scalar.indexCast arg13
  let c48_1209 : Index := 48#32
  ![v1840.toNat, 48]
@[reducible] def k3_t22_loop (i : grid3.Coords) (v376 : BitVec 32) (v381 : BitVec 32) : Scf.Loop 32 :=
  let c256_i32_350 : BitVec 32 := 256#32
  let c0_i32_349 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let c256_i32_353 : BitVec 32 := 256#32
  let c0_i32_352 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c0_i32_351 : BitVec 32 := 0#32
  let v719 : BitVec 32 := Scalar.subi v384 c0_i32_351
  let v720 : BitVec 32 := Scalar.maxsi c0_i32_352 v719
  let v721 : BitVec 32 := Scalar.minsi c256_i32_353 v720
  let v1805 : BitVec 32 := Scalar.subi v721 v718
  let c1_i32_1195 : BitVec 32 := 1#32
  let v1807 : BitVec 32 := Scalar.divsi v1805 c1_i32_1195
  let v1808 : BitVec 32 := Scalar.muli v1807 c1_i32_1195
  let v1809 : BitVec 32 := Scalar.addi v718 v1808
  let v1806 : BitVec 32 := Scalar.addi v718 v1805
  let c1_i32_1197 : BitVec 32 := 1#32
  ⟨v1809, v1806, c1_i32_1197⟩
def k3_off86 (i : grid3.Coords) (v376 : BitVec 32) (v381 : BitVec 32) (k3_t22 : Fin (k3_t22_loop i v376 v381).trips) : Fin 2 → Nat :=
  let c256_i32_350 : BitVec 32 := 256#32
  let c0_i32_349 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let c256_i32_353 : BitVec 32 := 256#32
  let c0_i32_352 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c0_i32_351 : BitVec 32 := 0#32
  let v719 : BitVec 32 := Scalar.subi v384 c0_i32_351
  let v720 : BitVec 32 := Scalar.maxsi c0_i32_352 v719
  let v721 : BitVec 32 := Scalar.minsi c256_i32_353 v720
  let v1805 : BitVec 32 := Scalar.subi v721 v718
  let c1_i32_1195 : BitVec 32 := 1#32
  let v1807 : BitVec 32 := Scalar.divsi v1805 c1_i32_1195
  let v1808 : BitVec 32 := Scalar.muli v1807 c1_i32_1195
  let v1809 : BitVec 32 := Scalar.addi v718 v1808
  let c1_i32_1197 : BitVec 32 := 1#32
  let arg13 : BitVec 32 := Scf.iv v1809 c1_i32_1197 k3_t22
  let v1828 : Index := Scalar.indexCast arg13
  let c0_1206 : Index := 0#32
  ![v1828.toNat, 0]
def k3_off87 (i : grid3.Coords) (v376 : BitVec 32) (v381 : BitVec 32) (k3_t22 : Fin (k3_t22_loop i v376 v381).trips) : Fin 2 → Nat :=
  let c256_i32_350 : BitVec 32 := 256#32
  let c0_i32_349 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let c256_i32_353 : BitVec 32 := 256#32
  let c0_i32_352 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c0_i32_351 : BitVec 32 := 0#32
  let v719 : BitVec 32 := Scalar.subi v384 c0_i32_351
  let v720 : BitVec 32 := Scalar.maxsi c0_i32_352 v719
  let v721 : BitVec 32 := Scalar.minsi c256_i32_353 v720
  let v1805 : BitVec 32 := Scalar.subi v721 v718
  let c1_i32_1195 : BitVec 32 := 1#32
  let v1807 : BitVec 32 := Scalar.divsi v1805 c1_i32_1195
  let v1808 : BitVec 32 := Scalar.muli v1807 c1_i32_1195
  let v1809 : BitVec 32 := Scalar.addi v718 v1808
  let c1_i32_1197 : BitVec 32 := 1#32
  let arg13 : BitVec 32 := Scf.iv v1809 c1_i32_1197 k3_t22
  let v1832 : Index := Scalar.indexCast arg13
  let c16_1207 : Index := 16#32
  ![v1832.toNat, 16]
def k3_off88 (i : grid3.Coords) (v376 : BitVec 32) (v381 : BitVec 32) (k3_t22 : Fin (k3_t22_loop i v376 v381).trips) : Fin 2 → Nat :=
  let c256_i32_350 : BitVec 32 := 256#32
  let c0_i32_349 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let c256_i32_353 : BitVec 32 := 256#32
  let c0_i32_352 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c0_i32_351 : BitVec 32 := 0#32
  let v719 : BitVec 32 := Scalar.subi v384 c0_i32_351
  let v720 : BitVec 32 := Scalar.maxsi c0_i32_352 v719
  let v721 : BitVec 32 := Scalar.minsi c256_i32_353 v720
  let v1805 : BitVec 32 := Scalar.subi v721 v718
  let c1_i32_1195 : BitVec 32 := 1#32
  let v1807 : BitVec 32 := Scalar.divsi v1805 c1_i32_1195
  let v1808 : BitVec 32 := Scalar.muli v1807 c1_i32_1195
  let v1809 : BitVec 32 := Scalar.addi v718 v1808
  let c1_i32_1197 : BitVec 32 := 1#32
  let arg13 : BitVec 32 := Scf.iv v1809 c1_i32_1197 k3_t22
  let v1836 : Index := Scalar.indexCast arg13
  let c32_1208 : Index := 32#32
  ![v1836.toNat, 32]
def k3_off89 (i : grid3.Coords) (v376 : BitVec 32) (v381 : BitVec 32) (k3_t22 : Fin (k3_t22_loop i v376 v381).trips) : Fin 2 → Nat :=
  let c256_i32_350 : BitVec 32 := 256#32
  let c0_i32_349 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c0_i32_348 : BitVec 32 := 0#32
  let v716 : BitVec 32 := Scalar.subi v379 c0_i32_348
  let v717 : BitVec 32 := Scalar.maxsi c0_i32_349 v716
  let v718 : BitVec 32 := Scalar.minsi c256_i32_350 v717
  let c256_i32_353 : BitVec 32 := 256#32
  let c0_i32_352 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c0_i32_351 : BitVec 32 := 0#32
  let v719 : BitVec 32 := Scalar.subi v384 c0_i32_351
  let v720 : BitVec 32 := Scalar.maxsi c0_i32_352 v719
  let v721 : BitVec 32 := Scalar.minsi c256_i32_353 v720
  let v1805 : BitVec 32 := Scalar.subi v721 v718
  let c1_i32_1195 : BitVec 32 := 1#32
  let v1807 : BitVec 32 := Scalar.divsi v1805 c1_i32_1195
  let v1808 : BitVec 32 := Scalar.muli v1807 c1_i32_1195
  let v1809 : BitVec 32 := Scalar.addi v718 v1808
  let c1_i32_1197 : BitVec 32 := 1#32
  let arg13 : BitVec 32 := Scf.iv v1809 c1_i32_1197 k3_t22
  let v1840 : Index := Scalar.indexCast arg13
  let c48_1209 : Index := 48#32
  ![v1840.toNat, 48]
@[reducible] def k3_t23_loop (i : grid3.Coords) (v386 : BitVec 32) (v392 : BitVec 32) : Scf.Loop 32 :=
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let c256_i32_360 : BitVec 32 := 256#32
  let c0_i32_359 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c0_i32_358 : BitVec 32 := 0#32
  let v728 : BitVec 32 := Scalar.subi v396 c0_i32_358
  let v729 : BitVec 32 := Scalar.maxsi c0_i32_359 v728
  let v730 : BitVec 32 := Scalar.minsi c256_i32_360 v729
  let v1805 : BitVec 32 := Scalar.subi v730 v727
  let c1_i32_1195 : BitVec 32 := 1#32
  let v1807 : BitVec 32 := Scalar.divsi v1805 c1_i32_1195
  let v1808 : BitVec 32 := Scalar.muli v1807 c1_i32_1195
  let v1809 : BitVec 32 := Scalar.addi v727 v1808
  let c1_i32_1196 : BitVec 32 := 1#32
  ⟨v727, v1809, c1_i32_1196⟩
def k3_cond12 (i : grid3.Coords) (v386 : BitVec 32) (v392 : BitVec 32) : BitVec 1 :=
  let c256_i32_360 : BitVec 32 := 256#32
  let c0_i32_359 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v394 : BitVec 32 := Scalar.subi v393 v3
  let v395 : BitVec 32 := Scalar.maxsi c0_i32_168 v394
  let v396 : BitVec 32 := Scalar.minsi c1024_i32_169 v395
  let c0_i32_358 : BitVec 32 := 0#32
  let v728 : BitVec 32 := Scalar.subi v396 c0_i32_358
  let v729 : BitVec 32 := Scalar.maxsi c0_i32_359 v728
  let v730 : BitVec 32 := Scalar.minsi c256_i32_360 v729
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let v731 : BitVec 1 := Scalar.cmpi .sgt v730 v727
  let v732 : BitVec 32 := Scalar.extui v731
  let c0_i32_361 : BitVec 32 := 0#32
  let v733 : BitVec 1 := Scalar.cmpi .ne v732 c0_i32_361
  v733

def k3_off90 (i : grid3.Coords) (v386 : BitVec 32) (v392 : BitVec 32) (k3_t23 : Fin (k3_t23_loop i v386 v392).trips) : Fin 2 → Nat :=
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let c1_i32_1196 : BitVec 32 := 1#32
  let arg13 : BitVec 32 := Scf.iv v727 c1_i32_1196 k3_t23
  let v1828 : Index := Scalar.indexCast arg13
  let c64 : Index := 64#32
  ![v1828.toNat, 64]
def k3_off91 (i : grid3.Coords) (v386 : BitVec 32) (v392 : BitVec 32) (k3_t23 : Fin (k3_t23_loop i v386 v392).trips) : Fin 2 → Nat :=
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let c1_i32_1196 : BitVec 32 := 1#32
  let arg13 : BitVec 32 := Scf.iv v727 c1_i32_1196 k3_t23
  let v1832 : Index := Scalar.indexCast arg13
  let c80 : Index := 80#32
  ![v1832.toNat, 80]
def k3_off92 (i : grid3.Coords) (v386 : BitVec 32) (v392 : BitVec 32) (k3_t23 : Fin (k3_t23_loop i v386 v392).trips) : Fin 2 → Nat :=
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let c1_i32_1196 : BitVec 32 := 1#32
  let arg13 : BitVec 32 := Scf.iv v727 c1_i32_1196 k3_t23
  let v1836 : Index := Scalar.indexCast arg13
  let c96 : Index := 96#32
  ![v1836.toNat, 96]
def k3_off93 (i : grid3.Coords) (v386 : BitVec 32) (v392 : BitVec 32) (k3_t23 : Fin (k3_t23_loop i v386 v392).trips) : Fin 2 → Nat :=
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let c1_i32_1196 : BitVec 32 := 1#32
  let arg13 : BitVec 32 := Scf.iv v727 c1_i32_1196 k3_t23
  let v1840 : Index := Scalar.indexCast arg13
  let c112 : Index := 112#32
  ![v1840.toNat, 112]
@[reducible] def k3_t24_loop (i : grid3.Coords) (v386 : BitVec 32) (v392 : BitVec 32) : Scf.Loop 32 :=
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let c256_i32_360 : BitVec 32 := 256#32
  let c0_i32_359 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c0_i32_358 : BitVec 32 := 0#32
  let v728 : BitVec 32 := Scalar.subi v396 c0_i32_358
  let v729 : BitVec 32 := Scalar.maxsi c0_i32_359 v728
  let v730 : BitVec 32 := Scalar.minsi c256_i32_360 v729
  let v1805 : BitVec 32 := Scalar.subi v730 v727
  let c1_i32_1195 : BitVec 32 := 1#32
  let v1807 : BitVec 32 := Scalar.divsi v1805 c1_i32_1195
  let v1808 : BitVec 32 := Scalar.muli v1807 c1_i32_1195
  let v1809 : BitVec 32 := Scalar.addi v727 v1808
  let v1806 : BitVec 32 := Scalar.addi v727 v1805
  let c1_i32_1197 : BitVec 32 := 1#32
  ⟨v1809, v1806, c1_i32_1197⟩
def k3_off94 (i : grid3.Coords) (v386 : BitVec 32) (v392 : BitVec 32) (k3_t24 : Fin (k3_t24_loop i v386 v392).trips) : Fin 2 → Nat :=
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let c256_i32_360 : BitVec 32 := 256#32
  let c0_i32_359 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c0_i32_358 : BitVec 32 := 0#32
  let v728 : BitVec 32 := Scalar.subi v396 c0_i32_358
  let v729 : BitVec 32 := Scalar.maxsi c0_i32_359 v728
  let v730 : BitVec 32 := Scalar.minsi c256_i32_360 v729
  let v1805 : BitVec 32 := Scalar.subi v730 v727
  let c1_i32_1195 : BitVec 32 := 1#32
  let v1807 : BitVec 32 := Scalar.divsi v1805 c1_i32_1195
  let v1808 : BitVec 32 := Scalar.muli v1807 c1_i32_1195
  let v1809 : BitVec 32 := Scalar.addi v727 v1808
  let c1_i32_1197 : BitVec 32 := 1#32
  let arg13 : BitVec 32 := Scf.iv v1809 c1_i32_1197 k3_t24
  let v1828 : Index := Scalar.indexCast arg13
  let c64 : Index := 64#32
  ![v1828.toNat, 64]
def k3_off95 (i : grid3.Coords) (v386 : BitVec 32) (v392 : BitVec 32) (k3_t24 : Fin (k3_t24_loop i v386 v392).trips) : Fin 2 → Nat :=
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let c256_i32_360 : BitVec 32 := 256#32
  let c0_i32_359 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c0_i32_358 : BitVec 32 := 0#32
  let v728 : BitVec 32 := Scalar.subi v396 c0_i32_358
  let v729 : BitVec 32 := Scalar.maxsi c0_i32_359 v728
  let v730 : BitVec 32 := Scalar.minsi c256_i32_360 v729
  let v1805 : BitVec 32 := Scalar.subi v730 v727
  let c1_i32_1195 : BitVec 32 := 1#32
  let v1807 : BitVec 32 := Scalar.divsi v1805 c1_i32_1195
  let v1808 : BitVec 32 := Scalar.muli v1807 c1_i32_1195
  let v1809 : BitVec 32 := Scalar.addi v727 v1808
  let c1_i32_1197 : BitVec 32 := 1#32
  let arg13 : BitVec 32 := Scf.iv v1809 c1_i32_1197 k3_t24
  let v1832 : Index := Scalar.indexCast arg13
  let c80 : Index := 80#32
  ![v1832.toNat, 80]
def k3_off96 (i : grid3.Coords) (v386 : BitVec 32) (v392 : BitVec 32) (k3_t24 : Fin (k3_t24_loop i v386 v392).trips) : Fin 2 → Nat :=
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let c256_i32_360 : BitVec 32 := 256#32
  let c0_i32_359 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c0_i32_358 : BitVec 32 := 0#32
  let v728 : BitVec 32 := Scalar.subi v396 c0_i32_358
  let v729 : BitVec 32 := Scalar.maxsi c0_i32_359 v728
  let v730 : BitVec 32 := Scalar.minsi c256_i32_360 v729
  let v1805 : BitVec 32 := Scalar.subi v730 v727
  let c1_i32_1195 : BitVec 32 := 1#32
  let v1807 : BitVec 32 := Scalar.divsi v1805 c1_i32_1195
  let v1808 : BitVec 32 := Scalar.muli v1807 c1_i32_1195
  let v1809 : BitVec 32 := Scalar.addi v727 v1808
  let c1_i32_1197 : BitVec 32 := 1#32
  let arg13 : BitVec 32 := Scf.iv v1809 c1_i32_1197 k3_t24
  let v1836 : Index := Scalar.indexCast arg13
  let c96 : Index := 96#32
  ![v1836.toNat, 96]
def k3_off97 (i : grid3.Coords) (v386 : BitVec 32) (v392 : BitVec 32) (k3_t24 : Fin (k3_t24_loop i v386 v392).trips) : Fin 2 → Nat :=
  let c256_i32_357 : BitVec 32 := 256#32
  let c0_i32_356 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c0_i32_355 : BitVec 32 := 0#32
  let v725 : BitVec 32 := Scalar.subi v390 c0_i32_355
  let v726 : BitVec 32 := Scalar.maxsi c0_i32_356 v725
  let v727 : BitVec 32 := Scalar.minsi c256_i32_357 v726
  let c256_i32_360 : BitVec 32 := 256#32
  let c0_i32_359 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c0_i32_358 : BitVec 32 := 0#32
  let v728 : BitVec 32 := Scalar.subi v396 c0_i32_358
  let v729 : BitVec 32 := Scalar.maxsi c0_i32_359 v728
  let v730 : BitVec 32 := Scalar.minsi c256_i32_360 v729
  let v1805 : BitVec 32 := Scalar.subi v730 v727
  let c1_i32_1195 : BitVec 32 := 1#32
  let v1807 : BitVec 32 := Scalar.divsi v1805 c1_i32_1195
  let v1808 : BitVec 32 := Scalar.muli v1807 c1_i32_1195
  let v1809 : BitVec 32 := Scalar.addi v727 v1808
  let c1_i32_1197 : BitVec 32 := 1#32
  let arg13 : BitVec 32 := Scf.iv v1809 c1_i32_1197 k3_t24
  let v1840 : Index := Scalar.indexCast arg13
  let c112 : Index := 112#32
  ![v1840.toNat, 112]
@[reducible] def k3_t25_loop (i : grid3.Coords) (v398 : BitVec 32) (v403 : BitVec 32) : Scf.Loop 32 :=
  let c256_i32_364 : BitVec 32 := 256#32
  let c0_i32_363 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let c256_i32_367 : BitVec 32 := 256#32
  let c0_i32_366 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c0_i32_365 : BitVec 32 := 0#32
  let v737 : BitVec 32 := Scalar.subi v406 c0_i32_365
  let v738 : BitVec 32 := Scalar.maxsi c0_i32_366 v737
  let v739 : BitVec 32 := Scalar.minsi c256_i32_367 v738
  let v1805 : BitVec 32 := Scalar.subi v739 v736
  let c1_i32_1195 : BitVec 32 := 1#32
  let v1807 : BitVec 32 := Scalar.divsi v1805 c1_i32_1195
  let v1808 : BitVec 32 := Scalar.muli v1807 c1_i32_1195
  let v1809 : BitVec 32 := Scalar.addi v736 v1808
  let c1_i32_1196 : BitVec 32 := 1#32
  ⟨v736, v1809, c1_i32_1196⟩
def k3_cond13 (i : grid3.Coords) (v398 : BitVec 32) (v403 : BitVec 32) : BitVec 1 :=
  let c256_i32_367 : BitVec 32 := 256#32
  let c0_i32_366 : BitVec 32 := 0#32
  let c1024_i32_173 : BitVec 32 := 1024#32
  let c0_i32_172 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v404 : BitVec 32 := Scalar.subi v403 v3
  let v405 : BitVec 32 := Scalar.maxsi c0_i32_172 v404
  let v406 : BitVec 32 := Scalar.minsi c1024_i32_173 v405
  let c0_i32_365 : BitVec 32 := 0#32
  let v737 : BitVec 32 := Scalar.subi v406 c0_i32_365
  let v738 : BitVec 32 := Scalar.maxsi c0_i32_366 v737
  let v739 : BitVec 32 := Scalar.minsi c256_i32_367 v738
  let c256_i32_364 : BitVec 32 := 256#32
  let c0_i32_363 : BitVec 32 := 0#32
  let c1024_i32_171 : BitVec 32 := 1024#32
  let c0_i32_170 : BitVec 32 := 0#32
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let v740 : BitVec 1 := Scalar.cmpi .sgt v739 v736
  let v741 : BitVec 32 := Scalar.extui v740
  let c0_i32_368 : BitVec 32 := 0#32
  let v742 : BitVec 1 := Scalar.cmpi .ne v741 c0_i32_368
  v742

def k3_off98 (i : grid3.Coords) (v398 : BitVec 32) (v403 : BitVec 32) (k3_t25 : Fin (k3_t25_loop i v398 v403).trips) : Fin 2 → Nat :=
  let c256_i32_364 : BitVec 32 := 256#32
  let c0_i32_363 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let c1_i32_1196 : BitVec 32 := 1#32
  let arg13 : BitVec 32 := Scf.iv v736 c1_i32_1196 k3_t25
  let v1828 : Index := Scalar.indexCast arg13
  let c0_1206 : Index := 0#32
  ![v1828.toNat, 0]
def k3_off99 (i : grid3.Coords) (v398 : BitVec 32) (v403 : BitVec 32) (k3_t25 : Fin (k3_t25_loop i v398 v403).trips) : Fin 2 → Nat :=
  let c256_i32_364 : BitVec 32 := 256#32
  let c0_i32_363 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let c1_i32_1196 : BitVec 32 := 1#32
  let arg13 : BitVec 32 := Scf.iv v736 c1_i32_1196 k3_t25
  let v1832 : Index := Scalar.indexCast arg13
  let c16_1207 : Index := 16#32
  ![v1832.toNat, 16]
def k3_off100 (i : grid3.Coords) (v398 : BitVec 32) (v403 : BitVec 32) (k3_t25 : Fin (k3_t25_loop i v398 v403).trips) : Fin 2 → Nat :=
  let c256_i32_364 : BitVec 32 := 256#32
  let c0_i32_363 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let c1_i32_1196 : BitVec 32 := 1#32
  let arg13 : BitVec 32 := Scf.iv v736 c1_i32_1196 k3_t25
  let v1836 : Index := Scalar.indexCast arg13
  let c32_1208 : Index := 32#32
  ![v1836.toNat, 32]
def k3_off101 (i : grid3.Coords) (v398 : BitVec 32) (v403 : BitVec 32) (k3_t25 : Fin (k3_t25_loop i v398 v403).trips) : Fin 2 → Nat :=
  let c256_i32_364 : BitVec 32 := 256#32
  let c0_i32_363 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let c1_i32_1196 : BitVec 32 := 1#32
  let arg13 : BitVec 32 := Scf.iv v736 c1_i32_1196 k3_t25
  let v1840 : Index := Scalar.indexCast arg13
  let c48_1209 : Index := 48#32
  ![v1840.toNat, 48]
@[reducible] def k3_t26_loop (i : grid3.Coords) (v398 : BitVec 32) (v403 : BitVec 32) : Scf.Loop 32 :=
  let c256_i32_364 : BitVec 32 := 256#32
  let c0_i32_363 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let c256_i32_367 : BitVec 32 := 256#32
  let c0_i32_366 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c0_i32_365 : BitVec 32 := 0#32
  let v737 : BitVec 32 := Scalar.subi v406 c0_i32_365
  let v738 : BitVec 32 := Scalar.maxsi c0_i32_366 v737
  let v739 : BitVec 32 := Scalar.minsi c256_i32_367 v738
  let v1805 : BitVec 32 := Scalar.subi v739 v736
  let c1_i32_1195 : BitVec 32 := 1#32
  let v1807 : BitVec 32 := Scalar.divsi v1805 c1_i32_1195
  let v1808 : BitVec 32 := Scalar.muli v1807 c1_i32_1195
  let v1809 : BitVec 32 := Scalar.addi v736 v1808
  let v1806 : BitVec 32 := Scalar.addi v736 v1805
  let c1_i32_1197 : BitVec 32 := 1#32
  ⟨v1809, v1806, c1_i32_1197⟩
def k3_off102 (i : grid3.Coords) (v398 : BitVec 32) (v403 : BitVec 32) (k3_t26 : Fin (k3_t26_loop i v398 v403).trips) : Fin 2 → Nat :=
  let c256_i32_364 : BitVec 32 := 256#32
  let c0_i32_363 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let c256_i32_367 : BitVec 32 := 256#32
  let c0_i32_366 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c0_i32_365 : BitVec 32 := 0#32
  let v737 : BitVec 32 := Scalar.subi v406 c0_i32_365
  let v738 : BitVec 32 := Scalar.maxsi c0_i32_366 v737
  let v739 : BitVec 32 := Scalar.minsi c256_i32_367 v738
  let v1805 : BitVec 32 := Scalar.subi v739 v736
  let c1_i32_1195 : BitVec 32 := 1#32
  let v1807 : BitVec 32 := Scalar.divsi v1805 c1_i32_1195
  let v1808 : BitVec 32 := Scalar.muli v1807 c1_i32_1195
  let v1809 : BitVec 32 := Scalar.addi v736 v1808
  let c1_i32_1197 : BitVec 32 := 1#32
  let arg13 : BitVec 32 := Scf.iv v1809 c1_i32_1197 k3_t26
  let v1828 : Index := Scalar.indexCast arg13
  let c0_1206 : Index := 0#32
  ![v1828.toNat, 0]
def k3_off103 (i : grid3.Coords) (v398 : BitVec 32) (v403 : BitVec 32) (k3_t26 : Fin (k3_t26_loop i v398 v403).trips) : Fin 2 → Nat :=
  let c256_i32_364 : BitVec 32 := 256#32
  let c0_i32_363 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let c256_i32_367 : BitVec 32 := 256#32
  let c0_i32_366 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c0_i32_365 : BitVec 32 := 0#32
  let v737 : BitVec 32 := Scalar.subi v406 c0_i32_365
  let v738 : BitVec 32 := Scalar.maxsi c0_i32_366 v737
  let v739 : BitVec 32 := Scalar.minsi c256_i32_367 v738
  let v1805 : BitVec 32 := Scalar.subi v739 v736
  let c1_i32_1195 : BitVec 32 := 1#32
  let v1807 : BitVec 32 := Scalar.divsi v1805 c1_i32_1195
  let v1808 : BitVec 32 := Scalar.muli v1807 c1_i32_1195
  let v1809 : BitVec 32 := Scalar.addi v736 v1808
  let c1_i32_1197 : BitVec 32 := 1#32
  let arg13 : BitVec 32 := Scf.iv v1809 c1_i32_1197 k3_t26
  let v1832 : Index := Scalar.indexCast arg13
  let c16_1207 : Index := 16#32
  ![v1832.toNat, 16]
def k3_off104 (i : grid3.Coords) (v398 : BitVec 32) (v403 : BitVec 32) (k3_t26 : Fin (k3_t26_loop i v398 v403).trips) : Fin 2 → Nat :=
  let c256_i32_364 : BitVec 32 := 256#32
  let c0_i32_363 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let c256_i32_367 : BitVec 32 := 256#32
  let c0_i32_366 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c0_i32_365 : BitVec 32 := 0#32
  let v737 : BitVec 32 := Scalar.subi v406 c0_i32_365
  let v738 : BitVec 32 := Scalar.maxsi c0_i32_366 v737
  let v739 : BitVec 32 := Scalar.minsi c256_i32_367 v738
  let v1805 : BitVec 32 := Scalar.subi v739 v736
  let c1_i32_1195 : BitVec 32 := 1#32
  let v1807 : BitVec 32 := Scalar.divsi v1805 c1_i32_1195
  let v1808 : BitVec 32 := Scalar.muli v1807 c1_i32_1195
  let v1809 : BitVec 32 := Scalar.addi v736 v1808
  let c1_i32_1197 : BitVec 32 := 1#32
  let arg13 : BitVec 32 := Scf.iv v1809 c1_i32_1197 k3_t26
  let v1836 : Index := Scalar.indexCast arg13
  let c32_1208 : Index := 32#32
  ![v1836.toNat, 32]
def k3_off105 (i : grid3.Coords) (v398 : BitVec 32) (v403 : BitVec 32) (k3_t26 : Fin (k3_t26_loop i v398 v403).trips) : Fin 2 → Nat :=
  let c256_i32_364 : BitVec 32 := 256#32
  let c0_i32_363 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c0_i32_362 : BitVec 32 := 0#32
  let v734 : BitVec 32 := Scalar.subi v401 c0_i32_362
  let v735 : BitVec 32 := Scalar.maxsi c0_i32_363 v734
  let v736 : BitVec 32 := Scalar.minsi c256_i32_364 v735
  let c256_i32_367 : BitVec 32 := 256#32
  let c0_i32_366 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c0_i32_365 : BitVec 32 := 0#32
  let v737 : BitVec 32 := Scalar.subi v406 c0_i32_365
  let v738 : BitVec 32 := Scalar.maxsi c0_i32_366 v737
  let v739 : BitVec 32 := Scalar.minsi c256_i32_367 v738
  let v1805 : BitVec 32 := Scalar.subi v739 v736
  let c1_i32_1195 : BitVec 32 := 1#32
  let v1807 : BitVec 32 := Scalar.divsi v1805 c1_i32_1195
  let v1808 : BitVec 32 := Scalar.muli v1807 c1_i32_1195
  let v1809 : BitVec 32 := Scalar.addi v736 v1808
  let c1_i32_1197 : BitVec 32 := 1#32
  let arg13 : BitVec 32 := Scf.iv v1809 c1_i32_1197 k3_t26
  let v1840 : Index := Scalar.indexCast arg13
  let c48_1209 : Index := 48#32
  ![v1840.toNat, 48]
@[reducible] def k3_t27_loop (i : grid3.Coords) (v408 : BitVec 32) (v414 : BitVec 32) : Scf.Loop 32 :=
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let c256_i32_374 : BitVec 32 := 256#32
  let c0_i32_373 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c0_i32_372 : BitVec 32 := 0#32
  let v746 : BitVec 32 := Scalar.subi v418 c0_i32_372
  let v747 : BitVec 32 := Scalar.maxsi c0_i32_373 v746
  let v748 : BitVec 32 := Scalar.minsi c256_i32_374 v747
  let v1805 : BitVec 32 := Scalar.subi v748 v745
  let c1_i32_1195 : BitVec 32 := 1#32
  let v1807 : BitVec 32 := Scalar.divsi v1805 c1_i32_1195
  let v1808 : BitVec 32 := Scalar.muli v1807 c1_i32_1195
  let v1809 : BitVec 32 := Scalar.addi v745 v1808
  let c1_i32_1196 : BitVec 32 := 1#32
  ⟨v745, v1809, c1_i32_1196⟩
def k3_cond14 (i : grid3.Coords) (v408 : BitVec 32) (v414 : BitVec 32) : BitVec 1 :=
  let c256_i32_374 : BitVec 32 := 256#32
  let c0_i32_373 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v416 : BitVec 32 := Scalar.subi v415 v3
  let v417 : BitVec 32 := Scalar.maxsi c0_i32_178 v416
  let v418 : BitVec 32 := Scalar.minsi c1024_i32_179 v417
  let c0_i32_372 : BitVec 32 := 0#32
  let v746 : BitVec 32 := Scalar.subi v418 c0_i32_372
  let v747 : BitVec 32 := Scalar.maxsi c0_i32_373 v746
  let v748 : BitVec 32 := Scalar.minsi c256_i32_374 v747
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let v749 : BitVec 1 := Scalar.cmpi .sgt v748 v745
  let v750 : BitVec 32 := Scalar.extui v749
  let c0_i32_375 : BitVec 32 := 0#32
  let v751 : BitVec 1 := Scalar.cmpi .ne v750 c0_i32_375
  v751

def k3_off106 (i : grid3.Coords) (v408 : BitVec 32) (v414 : BitVec 32) (k3_t27 : Fin (k3_t27_loop i v408 v414).trips) : Fin 2 → Nat :=
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let c1_i32_1196 : BitVec 32 := 1#32
  let arg13 : BitVec 32 := Scf.iv v745 c1_i32_1196 k3_t27
  let v1828 : Index := Scalar.indexCast arg13
  let c64 : Index := 64#32
  ![v1828.toNat, 64]
def k3_off107 (i : grid3.Coords) (v408 : BitVec 32) (v414 : BitVec 32) (k3_t27 : Fin (k3_t27_loop i v408 v414).trips) : Fin 2 → Nat :=
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let c1_i32_1196 : BitVec 32 := 1#32
  let arg13 : BitVec 32 := Scf.iv v745 c1_i32_1196 k3_t27
  let v1832 : Index := Scalar.indexCast arg13
  let c80 : Index := 80#32
  ![v1832.toNat, 80]
def k3_off108 (i : grid3.Coords) (v408 : BitVec 32) (v414 : BitVec 32) (k3_t27 : Fin (k3_t27_loop i v408 v414).trips) : Fin 2 → Nat :=
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let c1_i32_1196 : BitVec 32 := 1#32
  let arg13 : BitVec 32 := Scf.iv v745 c1_i32_1196 k3_t27
  let v1836 : Index := Scalar.indexCast arg13
  let c96 : Index := 96#32
  ![v1836.toNat, 96]
def k3_off109 (i : grid3.Coords) (v408 : BitVec 32) (v414 : BitVec 32) (k3_t27 : Fin (k3_t27_loop i v408 v414).trips) : Fin 2 → Nat :=
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let c1_i32_1196 : BitVec 32 := 1#32
  let arg13 : BitVec 32 := Scf.iv v745 c1_i32_1196 k3_t27
  let v1840 : Index := Scalar.indexCast arg13
  let c112 : Index := 112#32
  ![v1840.toNat, 112]
@[reducible] def k3_t28_loop (i : grid3.Coords) (v408 : BitVec 32) (v414 : BitVec 32) : Scf.Loop 32 :=
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let c256_i32_374 : BitVec 32 := 256#32
  let c0_i32_373 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c0_i32_372 : BitVec 32 := 0#32
  let v746 : BitVec 32 := Scalar.subi v418 c0_i32_372
  let v747 : BitVec 32 := Scalar.maxsi c0_i32_373 v746
  let v748 : BitVec 32 := Scalar.minsi c256_i32_374 v747
  let v1805 : BitVec 32 := Scalar.subi v748 v745
  let c1_i32_1195 : BitVec 32 := 1#32
  let v1807 : BitVec 32 := Scalar.divsi v1805 c1_i32_1195
  let v1808 : BitVec 32 := Scalar.muli v1807 c1_i32_1195
  let v1809 : BitVec 32 := Scalar.addi v745 v1808
  let v1806 : BitVec 32 := Scalar.addi v745 v1805
  let c1_i32_1197 : BitVec 32 := 1#32
  ⟨v1809, v1806, c1_i32_1197⟩
def k3_off110 (i : grid3.Coords) (v408 : BitVec 32) (v414 : BitVec 32) (k3_t28 : Fin (k3_t28_loop i v408 v414).trips) : Fin 2 → Nat :=
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let c256_i32_374 : BitVec 32 := 256#32
  let c0_i32_373 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c0_i32_372 : BitVec 32 := 0#32
  let v746 : BitVec 32 := Scalar.subi v418 c0_i32_372
  let v747 : BitVec 32 := Scalar.maxsi c0_i32_373 v746
  let v748 : BitVec 32 := Scalar.minsi c256_i32_374 v747
  let v1805 : BitVec 32 := Scalar.subi v748 v745
  let c1_i32_1195 : BitVec 32 := 1#32
  let v1807 : BitVec 32 := Scalar.divsi v1805 c1_i32_1195
  let v1808 : BitVec 32 := Scalar.muli v1807 c1_i32_1195
  let v1809 : BitVec 32 := Scalar.addi v745 v1808
  let c1_i32_1197 : BitVec 32 := 1#32
  let arg13 : BitVec 32 := Scf.iv v1809 c1_i32_1197 k3_t28
  let v1828 : Index := Scalar.indexCast arg13
  let c64 : Index := 64#32
  ![v1828.toNat, 64]
def k3_off111 (i : grid3.Coords) (v408 : BitVec 32) (v414 : BitVec 32) (k3_t28 : Fin (k3_t28_loop i v408 v414).trips) : Fin 2 → Nat :=
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let c256_i32_374 : BitVec 32 := 256#32
  let c0_i32_373 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c0_i32_372 : BitVec 32 := 0#32
  let v746 : BitVec 32 := Scalar.subi v418 c0_i32_372
  let v747 : BitVec 32 := Scalar.maxsi c0_i32_373 v746
  let v748 : BitVec 32 := Scalar.minsi c256_i32_374 v747
  let v1805 : BitVec 32 := Scalar.subi v748 v745
  let c1_i32_1195 : BitVec 32 := 1#32
  let v1807 : BitVec 32 := Scalar.divsi v1805 c1_i32_1195
  let v1808 : BitVec 32 := Scalar.muli v1807 c1_i32_1195
  let v1809 : BitVec 32 := Scalar.addi v745 v1808
  let c1_i32_1197 : BitVec 32 := 1#32
  let arg13 : BitVec 32 := Scf.iv v1809 c1_i32_1197 k3_t28
  let v1832 : Index := Scalar.indexCast arg13
  let c80 : Index := 80#32
  ![v1832.toNat, 80]
def k3_off112 (i : grid3.Coords) (v408 : BitVec 32) (v414 : BitVec 32) (k3_t28 : Fin (k3_t28_loop i v408 v414).trips) : Fin 2 → Nat :=
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let c256_i32_374 : BitVec 32 := 256#32
  let c0_i32_373 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c0_i32_372 : BitVec 32 := 0#32
  let v746 : BitVec 32 := Scalar.subi v418 c0_i32_372
  let v747 : BitVec 32 := Scalar.maxsi c0_i32_373 v746
  let v748 : BitVec 32 := Scalar.minsi c256_i32_374 v747
  let v1805 : BitVec 32 := Scalar.subi v748 v745
  let c1_i32_1195 : BitVec 32 := 1#32
  let v1807 : BitVec 32 := Scalar.divsi v1805 c1_i32_1195
  let v1808 : BitVec 32 := Scalar.muli v1807 c1_i32_1195
  let v1809 : BitVec 32 := Scalar.addi v745 v1808
  let c1_i32_1197 : BitVec 32 := 1#32
  let arg13 : BitVec 32 := Scf.iv v1809 c1_i32_1197 k3_t28
  let v1836 : Index := Scalar.indexCast arg13
  let c96 : Index := 96#32
  ![v1836.toNat, 96]
def k3_off113 (i : grid3.Coords) (v408 : BitVec 32) (v414 : BitVec 32) (k3_t28 : Fin (k3_t28_loop i v408 v414).trips) : Fin 2 → Nat :=
  let c256_i32_371 : BitVec 32 := 256#32
  let c0_i32_370 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c0_i32_369 : BitVec 32 := 0#32
  let v743 : BitVec 32 := Scalar.subi v412 c0_i32_369
  let v744 : BitVec 32 := Scalar.maxsi c0_i32_370 v743
  let v745 : BitVec 32 := Scalar.minsi c256_i32_371 v744
  let c256_i32_374 : BitVec 32 := 256#32
  let c0_i32_373 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c0_i32_372 : BitVec 32 := 0#32
  let v746 : BitVec 32 := Scalar.subi v418 c0_i32_372
  let v747 : BitVec 32 := Scalar.maxsi c0_i32_373 v746
  let v748 : BitVec 32 := Scalar.minsi c256_i32_374 v747
  let v1805 : BitVec 32 := Scalar.subi v748 v745
  let c1_i32_1195 : BitVec 32 := 1#32
  let v1807 : BitVec 32 := Scalar.divsi v1805 c1_i32_1195
  let v1808 : BitVec 32 := Scalar.muli v1807 c1_i32_1195
  let v1809 : BitVec 32 := Scalar.addi v745 v1808
  let c1_i32_1197 : BitVec 32 := 1#32
  let arg13 : BitVec 32 := Scf.iv v1809 c1_i32_1197 k3_t28
  let v1840 : Index := Scalar.indexCast arg13
  let c112 : Index := 112#32
  ![v1840.toNat, 112]
@[reducible] def k3_t29_loop (i : grid3.Coords) (v420 : BitVec 32) (v425 : BitVec 32) : Scf.Loop 32 :=
  let c256_i32_378 : BitVec 32 := 256#32
  let c0_i32_377 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let c256_i32_381 : BitVec 32 := 256#32
  let c0_i32_380 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c0_i32_379 : BitVec 32 := 0#32
  let v755 : BitVec 32 := Scalar.subi v428 c0_i32_379
  let v756 : BitVec 32 := Scalar.maxsi c0_i32_380 v755
  let v757 : BitVec 32 := Scalar.minsi c256_i32_381 v756
  let v1805 : BitVec 32 := Scalar.subi v757 v754
  let c1_i32_1195 : BitVec 32 := 1#32
  let v1807 : BitVec 32 := Scalar.divsi v1805 c1_i32_1195
  let v1808 : BitVec 32 := Scalar.muli v1807 c1_i32_1195
  let v1809 : BitVec 32 := Scalar.addi v754 v1808
  let c1_i32_1196 : BitVec 32 := 1#32
  ⟨v754, v1809, c1_i32_1196⟩
def k3_cond15 (i : grid3.Coords) (v420 : BitVec 32) (v425 : BitVec 32) : BitVec 1 :=
  let c256_i32_381 : BitVec 32 := 256#32
  let c0_i32_380 : BitVec 32 := 0#32
  let c1024_i32_183 : BitVec 32 := 1024#32
  let c0_i32_182 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v426 : BitVec 32 := Scalar.subi v425 v3
  let v427 : BitVec 32 := Scalar.maxsi c0_i32_182 v426
  let v428 : BitVec 32 := Scalar.minsi c1024_i32_183 v427
  let c0_i32_379 : BitVec 32 := 0#32
  let v755 : BitVec 32 := Scalar.subi v428 c0_i32_379
  let v756 : BitVec 32 := Scalar.maxsi c0_i32_380 v755
  let v757 : BitVec 32 := Scalar.minsi c256_i32_381 v756
  let c256_i32_378 : BitVec 32 := 256#32
  let c0_i32_377 : BitVec 32 := 0#32
  let c1024_i32_181 : BitVec 32 := 1024#32
  let c0_i32_180 : BitVec 32 := 0#32
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let v758 : BitVec 1 := Scalar.cmpi .sgt v757 v754
  let v759 : BitVec 32 := Scalar.extui v758
  let c0_i32_382 : BitVec 32 := 0#32
  let v760 : BitVec 1 := Scalar.cmpi .ne v759 c0_i32_382
  v760

def k3_off114 (i : grid3.Coords) (v420 : BitVec 32) (v425 : BitVec 32) (k3_t29 : Fin (k3_t29_loop i v420 v425).trips) : Fin 2 → Nat :=
  let c256_i32_378 : BitVec 32 := 256#32
  let c0_i32_377 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let c1_i32_1196 : BitVec 32 := 1#32
  let arg13 : BitVec 32 := Scf.iv v754 c1_i32_1196 k3_t29
  let v1828 : Index := Scalar.indexCast arg13
  let c0_1206 : Index := 0#32
  ![v1828.toNat, 0]
def k3_off115 (i : grid3.Coords) (v420 : BitVec 32) (v425 : BitVec 32) (k3_t29 : Fin (k3_t29_loop i v420 v425).trips) : Fin 2 → Nat :=
  let c256_i32_378 : BitVec 32 := 256#32
  let c0_i32_377 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let c1_i32_1196 : BitVec 32 := 1#32
  let arg13 : BitVec 32 := Scf.iv v754 c1_i32_1196 k3_t29
  let v1832 : Index := Scalar.indexCast arg13
  let c16_1207 : Index := 16#32
  ![v1832.toNat, 16]
def k3_off116 (i : grid3.Coords) (v420 : BitVec 32) (v425 : BitVec 32) (k3_t29 : Fin (k3_t29_loop i v420 v425).trips) : Fin 2 → Nat :=
  let c256_i32_378 : BitVec 32 := 256#32
  let c0_i32_377 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let c1_i32_1196 : BitVec 32 := 1#32
  let arg13 : BitVec 32 := Scf.iv v754 c1_i32_1196 k3_t29
  let v1836 : Index := Scalar.indexCast arg13
  let c32_1208 : Index := 32#32
  ![v1836.toNat, 32]
def k3_off117 (i : grid3.Coords) (v420 : BitVec 32) (v425 : BitVec 32) (k3_t29 : Fin (k3_t29_loop i v420 v425).trips) : Fin 2 → Nat :=
  let c256_i32_378 : BitVec 32 := 256#32
  let c0_i32_377 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let c1_i32_1196 : BitVec 32 := 1#32
  let arg13 : BitVec 32 := Scf.iv v754 c1_i32_1196 k3_t29
  let v1840 : Index := Scalar.indexCast arg13
  let c48_1209 : Index := 48#32
  ![v1840.toNat, 48]
@[reducible] def k3_t30_loop (i : grid3.Coords) (v420 : BitVec 32) (v425 : BitVec 32) : Scf.Loop 32 :=
  let c256_i32_378 : BitVec 32 := 256#32
  let c0_i32_377 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let c256_i32_381 : BitVec 32 := 256#32
  let c0_i32_380 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c0_i32_379 : BitVec 32 := 0#32
  let v755 : BitVec 32 := Scalar.subi v428 c0_i32_379
  let v756 : BitVec 32 := Scalar.maxsi c0_i32_380 v755
  let v757 : BitVec 32 := Scalar.minsi c256_i32_381 v756
  let v1805 : BitVec 32 := Scalar.subi v757 v754
  let c1_i32_1195 : BitVec 32 := 1#32
  let v1807 : BitVec 32 := Scalar.divsi v1805 c1_i32_1195
  let v1808 : BitVec 32 := Scalar.muli v1807 c1_i32_1195
  let v1809 : BitVec 32 := Scalar.addi v754 v1808
  let v1806 : BitVec 32 := Scalar.addi v754 v1805
  let c1_i32_1197 : BitVec 32 := 1#32
  ⟨v1809, v1806, c1_i32_1197⟩
def k3_off118 (i : grid3.Coords) (v420 : BitVec 32) (v425 : BitVec 32) (k3_t30 : Fin (k3_t30_loop i v420 v425).trips) : Fin 2 → Nat :=
  let c256_i32_378 : BitVec 32 := 256#32
  let c0_i32_377 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let c256_i32_381 : BitVec 32 := 256#32
  let c0_i32_380 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c0_i32_379 : BitVec 32 := 0#32
  let v755 : BitVec 32 := Scalar.subi v428 c0_i32_379
  let v756 : BitVec 32 := Scalar.maxsi c0_i32_380 v755
  let v757 : BitVec 32 := Scalar.minsi c256_i32_381 v756
  let v1805 : BitVec 32 := Scalar.subi v757 v754
  let c1_i32_1195 : BitVec 32 := 1#32
  let v1807 : BitVec 32 := Scalar.divsi v1805 c1_i32_1195
  let v1808 : BitVec 32 := Scalar.muli v1807 c1_i32_1195
  let v1809 : BitVec 32 := Scalar.addi v754 v1808
  let c1_i32_1197 : BitVec 32 := 1#32
  let arg13 : BitVec 32 := Scf.iv v1809 c1_i32_1197 k3_t30
  let v1828 : Index := Scalar.indexCast arg13
  let c0_1206 : Index := 0#32
  ![v1828.toNat, 0]
def k3_off119 (i : grid3.Coords) (v420 : BitVec 32) (v425 : BitVec 32) (k3_t30 : Fin (k3_t30_loop i v420 v425).trips) : Fin 2 → Nat :=
  let c256_i32_378 : BitVec 32 := 256#32
  let c0_i32_377 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let c256_i32_381 : BitVec 32 := 256#32
  let c0_i32_380 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c0_i32_379 : BitVec 32 := 0#32
  let v755 : BitVec 32 := Scalar.subi v428 c0_i32_379
  let v756 : BitVec 32 := Scalar.maxsi c0_i32_380 v755
  let v757 : BitVec 32 := Scalar.minsi c256_i32_381 v756
  let v1805 : BitVec 32 := Scalar.subi v757 v754
  let c1_i32_1195 : BitVec 32 := 1#32
  let v1807 : BitVec 32 := Scalar.divsi v1805 c1_i32_1195
  let v1808 : BitVec 32 := Scalar.muli v1807 c1_i32_1195
  let v1809 : BitVec 32 := Scalar.addi v754 v1808
  let c1_i32_1197 : BitVec 32 := 1#32
  let arg13 : BitVec 32 := Scf.iv v1809 c1_i32_1197 k3_t30
  let v1832 : Index := Scalar.indexCast arg13
  let c16_1207 : Index := 16#32
  ![v1832.toNat, 16]
def k3_off120 (i : grid3.Coords) (v420 : BitVec 32) (v425 : BitVec 32) (k3_t30 : Fin (k3_t30_loop i v420 v425).trips) : Fin 2 → Nat :=
  let c256_i32_378 : BitVec 32 := 256#32
  let c0_i32_377 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let c256_i32_381 : BitVec 32 := 256#32
  let c0_i32_380 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c0_i32_379 : BitVec 32 := 0#32
  let v755 : BitVec 32 := Scalar.subi v428 c0_i32_379
  let v756 : BitVec 32 := Scalar.maxsi c0_i32_380 v755
  let v757 : BitVec 32 := Scalar.minsi c256_i32_381 v756
  let v1805 : BitVec 32 := Scalar.subi v757 v754
  let c1_i32_1195 : BitVec 32 := 1#32
  let v1807 : BitVec 32 := Scalar.divsi v1805 c1_i32_1195
  let v1808 : BitVec 32 := Scalar.muli v1807 c1_i32_1195
  let v1809 : BitVec 32 := Scalar.addi v754 v1808
  let c1_i32_1197 : BitVec 32 := 1#32
  let arg13 : BitVec 32 := Scf.iv v1809 c1_i32_1197 k3_t30
  let v1836 : Index := Scalar.indexCast arg13
  let c32_1208 : Index := 32#32
  ![v1836.toNat, 32]
def k3_off121 (i : grid3.Coords) (v420 : BitVec 32) (v425 : BitVec 32) (k3_t30 : Fin (k3_t30_loop i v420 v425).trips) : Fin 2 → Nat :=
  let c256_i32_378 : BitVec 32 := 256#32
  let c0_i32_377 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c0_i32_376 : BitVec 32 := 0#32
  let v752 : BitVec 32 := Scalar.subi v423 c0_i32_376
  let v753 : BitVec 32 := Scalar.maxsi c0_i32_377 v752
  let v754 : BitVec 32 := Scalar.minsi c256_i32_378 v753
  let c256_i32_381 : BitVec 32 := 256#32
  let c0_i32_380 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c0_i32_379 : BitVec 32 := 0#32
  let v755 : BitVec 32 := Scalar.subi v428 c0_i32_379
  let v756 : BitVec 32 := Scalar.maxsi c0_i32_380 v755
  let v757 : BitVec 32 := Scalar.minsi c256_i32_381 v756
  let v1805 : BitVec 32 := Scalar.subi v757 v754
  let c1_i32_1195 : BitVec 32 := 1#32
  let v1807 : BitVec 32 := Scalar.divsi v1805 c1_i32_1195
  let v1808 : BitVec 32 := Scalar.muli v1807 c1_i32_1195
  let v1809 : BitVec 32 := Scalar.addi v754 v1808
  let c1_i32_1197 : BitVec 32 := 1#32
  let arg13 : BitVec 32 := Scf.iv v1809 c1_i32_1197 k3_t30
  let v1840 : Index := Scalar.indexCast arg13
  let c48_1209 : Index := 48#32
  ![v1840.toNat, 48]
@[reducible] def k3_t31_loop (i : grid3.Coords) (v430 : BitVec 32) (v436 : BitVec 32) : Scf.Loop 32 :=
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let c256_i32_388 : BitVec 32 := 256#32
  let c0_i32_387 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c0_i32_386 : BitVec 32 := 0#32
  let v764 : BitVec 32 := Scalar.subi v440 c0_i32_386
  let v765 : BitVec 32 := Scalar.maxsi c0_i32_387 v764
  let v766 : BitVec 32 := Scalar.minsi c256_i32_388 v765
  let v1805 : BitVec 32 := Scalar.subi v766 v763
  let c1_i32_1195 : BitVec 32 := 1#32
  let v1807 : BitVec 32 := Scalar.divsi v1805 c1_i32_1195
  let v1808 : BitVec 32 := Scalar.muli v1807 c1_i32_1195
  let v1809 : BitVec 32 := Scalar.addi v763 v1808
  let c1_i32_1196 : BitVec 32 := 1#32
  ⟨v763, v1809, c1_i32_1196⟩
def k3_cond16 (i : grid3.Coords) (v430 : BitVec 32) (v436 : BitVec 32) : BitVec 1 :=
  let c256_i32_388 : BitVec 32 := 256#32
  let c0_i32_387 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v438 : BitVec 32 := Scalar.subi v437 v3
  let v439 : BitVec 32 := Scalar.maxsi c0_i32_188 v438
  let v440 : BitVec 32 := Scalar.minsi c1024_i32_189 v439
  let c0_i32_386 : BitVec 32 := 0#32
  let v764 : BitVec 32 := Scalar.subi v440 c0_i32_386
  let v765 : BitVec 32 := Scalar.maxsi c0_i32_387 v764
  let v766 : BitVec 32 := Scalar.minsi c256_i32_388 v765
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let v767 : BitVec 1 := Scalar.cmpi .sgt v766 v763
  let v768 : BitVec 32 := Scalar.extui v767
  let c0_i32_389 : BitVec 32 := 0#32
  let v769 : BitVec 1 := Scalar.cmpi .ne v768 c0_i32_389
  v769

def k3_off122 (i : grid3.Coords) (v430 : BitVec 32) (v436 : BitVec 32) (k3_t31 : Fin (k3_t31_loop i v430 v436).trips) : Fin 2 → Nat :=
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let c1_i32_1196 : BitVec 32 := 1#32
  let arg13 : BitVec 32 := Scf.iv v763 c1_i32_1196 k3_t31
  let v1828 : Index := Scalar.indexCast arg13
  let c64 : Index := 64#32
  ![v1828.toNat, 64]
def k3_off123 (i : grid3.Coords) (v430 : BitVec 32) (v436 : BitVec 32) (k3_t31 : Fin (k3_t31_loop i v430 v436).trips) : Fin 2 → Nat :=
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let c1_i32_1196 : BitVec 32 := 1#32
  let arg13 : BitVec 32 := Scf.iv v763 c1_i32_1196 k3_t31
  let v1832 : Index := Scalar.indexCast arg13
  let c80 : Index := 80#32
  ![v1832.toNat, 80]
def k3_off124 (i : grid3.Coords) (v430 : BitVec 32) (v436 : BitVec 32) (k3_t31 : Fin (k3_t31_loop i v430 v436).trips) : Fin 2 → Nat :=
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let c1_i32_1196 : BitVec 32 := 1#32
  let arg13 : BitVec 32 := Scf.iv v763 c1_i32_1196 k3_t31
  let v1836 : Index := Scalar.indexCast arg13
  let c96 : Index := 96#32
  ![v1836.toNat, 96]
def k3_off125 (i : grid3.Coords) (v430 : BitVec 32) (v436 : BitVec 32) (k3_t31 : Fin (k3_t31_loop i v430 v436).trips) : Fin 2 → Nat :=
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let c1_i32_1196 : BitVec 32 := 1#32
  let arg13 : BitVec 32 := Scf.iv v763 c1_i32_1196 k3_t31
  let v1840 : Index := Scalar.indexCast arg13
  let c112 : Index := 112#32
  ![v1840.toNat, 112]
@[reducible] def k3_t32_loop (i : grid3.Coords) (v430 : BitVec 32) (v436 : BitVec 32) : Scf.Loop 32 :=
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let c256_i32_388 : BitVec 32 := 256#32
  let c0_i32_387 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c0_i32_386 : BitVec 32 := 0#32
  let v764 : BitVec 32 := Scalar.subi v440 c0_i32_386
  let v765 : BitVec 32 := Scalar.maxsi c0_i32_387 v764
  let v766 : BitVec 32 := Scalar.minsi c256_i32_388 v765
  let v1805 : BitVec 32 := Scalar.subi v766 v763
  let c1_i32_1195 : BitVec 32 := 1#32
  let v1807 : BitVec 32 := Scalar.divsi v1805 c1_i32_1195
  let v1808 : BitVec 32 := Scalar.muli v1807 c1_i32_1195
  let v1809 : BitVec 32 := Scalar.addi v763 v1808
  let v1806 : BitVec 32 := Scalar.addi v763 v1805
  let c1_i32_1197 : BitVec 32 := 1#32
  ⟨v1809, v1806, c1_i32_1197⟩
def k3_off126 (i : grid3.Coords) (v430 : BitVec 32) (v436 : BitVec 32) (k3_t32 : Fin (k3_t32_loop i v430 v436).trips) : Fin 2 → Nat :=
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let c256_i32_388 : BitVec 32 := 256#32
  let c0_i32_387 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c0_i32_386 : BitVec 32 := 0#32
  let v764 : BitVec 32 := Scalar.subi v440 c0_i32_386
  let v765 : BitVec 32 := Scalar.maxsi c0_i32_387 v764
  let v766 : BitVec 32 := Scalar.minsi c256_i32_388 v765
  let v1805 : BitVec 32 := Scalar.subi v766 v763
  let c1_i32_1195 : BitVec 32 := 1#32
  let v1807 : BitVec 32 := Scalar.divsi v1805 c1_i32_1195
  let v1808 : BitVec 32 := Scalar.muli v1807 c1_i32_1195
  let v1809 : BitVec 32 := Scalar.addi v763 v1808
  let c1_i32_1197 : BitVec 32 := 1#32
  let arg13 : BitVec 32 := Scf.iv v1809 c1_i32_1197 k3_t32
  let v1828 : Index := Scalar.indexCast arg13
  let c64 : Index := 64#32
  ![v1828.toNat, 64]
def k3_off127 (i : grid3.Coords) (v430 : BitVec 32) (v436 : BitVec 32) (k3_t32 : Fin (k3_t32_loop i v430 v436).trips) : Fin 2 → Nat :=
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let c256_i32_388 : BitVec 32 := 256#32
  let c0_i32_387 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c0_i32_386 : BitVec 32 := 0#32
  let v764 : BitVec 32 := Scalar.subi v440 c0_i32_386
  let v765 : BitVec 32 := Scalar.maxsi c0_i32_387 v764
  let v766 : BitVec 32 := Scalar.minsi c256_i32_388 v765
  let v1805 : BitVec 32 := Scalar.subi v766 v763
  let c1_i32_1195 : BitVec 32 := 1#32
  let v1807 : BitVec 32 := Scalar.divsi v1805 c1_i32_1195
  let v1808 : BitVec 32 := Scalar.muli v1807 c1_i32_1195
  let v1809 : BitVec 32 := Scalar.addi v763 v1808
  let c1_i32_1197 : BitVec 32 := 1#32
  let arg13 : BitVec 32 := Scf.iv v1809 c1_i32_1197 k3_t32
  let v1832 : Index := Scalar.indexCast arg13
  let c80 : Index := 80#32
  ![v1832.toNat, 80]
def k3_off128 (i : grid3.Coords) (v430 : BitVec 32) (v436 : BitVec 32) (k3_t32 : Fin (k3_t32_loop i v430 v436).trips) : Fin 2 → Nat :=
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let c256_i32_388 : BitVec 32 := 256#32
  let c0_i32_387 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c0_i32_386 : BitVec 32 := 0#32
  let v764 : BitVec 32 := Scalar.subi v440 c0_i32_386
  let v765 : BitVec 32 := Scalar.maxsi c0_i32_387 v764
  let v766 : BitVec 32 := Scalar.minsi c256_i32_388 v765
  let v1805 : BitVec 32 := Scalar.subi v766 v763
  let c1_i32_1195 : BitVec 32 := 1#32
  let v1807 : BitVec 32 := Scalar.divsi v1805 c1_i32_1195
  let v1808 : BitVec 32 := Scalar.muli v1807 c1_i32_1195
  let v1809 : BitVec 32 := Scalar.addi v763 v1808
  let c1_i32_1197 : BitVec 32 := 1#32
  let arg13 : BitVec 32 := Scf.iv v1809 c1_i32_1197 k3_t32
  let v1836 : Index := Scalar.indexCast arg13
  let c96 : Index := 96#32
  ![v1836.toNat, 96]
def k3_off129 (i : grid3.Coords) (v430 : BitVec 32) (v436 : BitVec 32) (k3_t32 : Fin (k3_t32_loop i v430 v436).trips) : Fin 2 → Nat :=
  let c256_i32_385 : BitVec 32 := 256#32
  let c0_i32_384 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c0_i32_383 : BitVec 32 := 0#32
  let v761 : BitVec 32 := Scalar.subi v434 c0_i32_383
  let v762 : BitVec 32 := Scalar.maxsi c0_i32_384 v761
  let v763 : BitVec 32 := Scalar.minsi c256_i32_385 v762
  let c256_i32_388 : BitVec 32 := 256#32
  let c0_i32_387 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c0_i32_386 : BitVec 32 := 0#32
  let v764 : BitVec 32 := Scalar.subi v440 c0_i32_386
  let v765 : BitVec 32 := Scalar.maxsi c0_i32_387 v764
  let v766 : BitVec 32 := Scalar.minsi c256_i32_388 v765
  let v1805 : BitVec 32 := Scalar.subi v766 v763
  let c1_i32_1195 : BitVec 32 := 1#32
  let v1807 : BitVec 32 := Scalar.divsi v1805 c1_i32_1195
  let v1808 : BitVec 32 := Scalar.muli v1807 c1_i32_1195
  let v1809 : BitVec 32 := Scalar.addi v763 v1808
  let c1_i32_1197 : BitVec 32 := 1#32
  let arg13 : BitVec 32 := Scf.iv v1809 c1_i32_1197 k3_t32
  let v1840 : Index := Scalar.indexCast arg13
  let c112 : Index := 112#32
  ![v1840.toNat, 112]
@[reducible] def k3_t33_loop (i : grid3.Coords) (v442 : BitVec 32) (v447 : BitVec 32) : Scf.Loop 32 :=
  let c256_i32_392 : BitVec 32 := 256#32
  let c0_i32_391 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let c256_i32_395 : BitVec 32 := 256#32
  let c0_i32_394 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c0_i32_393 : BitVec 32 := 0#32
  let v773 : BitVec 32 := Scalar.subi v450 c0_i32_393
  let v774 : BitVec 32 := Scalar.maxsi c0_i32_394 v773
  let v775 : BitVec 32 := Scalar.minsi c256_i32_395 v774
  let v1805 : BitVec 32 := Scalar.subi v775 v772
  let c1_i32_1195 : BitVec 32 := 1#32
  let v1807 : BitVec 32 := Scalar.divsi v1805 c1_i32_1195
  let v1808 : BitVec 32 := Scalar.muli v1807 c1_i32_1195
  let v1809 : BitVec 32 := Scalar.addi v772 v1808
  let c1_i32_1196 : BitVec 32 := 1#32
  ⟨v772, v1809, c1_i32_1196⟩
def k3_cond17 (i : grid3.Coords) (v442 : BitVec 32) (v447 : BitVec 32) : BitVec 1 :=
  let c256_i32_395 : BitVec 32 := 256#32
  let c0_i32_394 : BitVec 32 := 0#32
  let c1024_i32_193 : BitVec 32 := 1024#32
  let c0_i32_192 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v448 : BitVec 32 := Scalar.subi v447 v3
  let v449 : BitVec 32 := Scalar.maxsi c0_i32_192 v448
  let v450 : BitVec 32 := Scalar.minsi c1024_i32_193 v449
  let c0_i32_393 : BitVec 32 := 0#32
  let v773 : BitVec 32 := Scalar.subi v450 c0_i32_393
  let v774 : BitVec 32 := Scalar.maxsi c0_i32_394 v773
  let v775 : BitVec 32 := Scalar.minsi c256_i32_395 v774
  let c256_i32_392 : BitVec 32 := 256#32
  let c0_i32_391 : BitVec 32 := 0#32
  let c1024_i32_191 : BitVec 32 := 1024#32
  let c0_i32_190 : BitVec 32 := 0#32
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let v776 : BitVec 1 := Scalar.cmpi .sgt v775 v772
  let v777 : BitVec 32 := Scalar.extui v776
  let c0_i32_396 : BitVec 32 := 0#32
  let v778 : BitVec 1 := Scalar.cmpi .ne v777 c0_i32_396
  v778

def k3_off130 (i : grid3.Coords) (v442 : BitVec 32) (v447 : BitVec 32) (k3_t33 : Fin (k3_t33_loop i v442 v447).trips) : Fin 2 → Nat :=
  let c256_i32_392 : BitVec 32 := 256#32
  let c0_i32_391 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let c1_i32_1196 : BitVec 32 := 1#32
  let arg13 : BitVec 32 := Scf.iv v772 c1_i32_1196 k3_t33
  let v1828 : Index := Scalar.indexCast arg13
  let c0_1206 : Index := 0#32
  ![v1828.toNat, 0]
def k3_off131 (i : grid3.Coords) (v442 : BitVec 32) (v447 : BitVec 32) (k3_t33 : Fin (k3_t33_loop i v442 v447).trips) : Fin 2 → Nat :=
  let c256_i32_392 : BitVec 32 := 256#32
  let c0_i32_391 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let c1_i32_1196 : BitVec 32 := 1#32
  let arg13 : BitVec 32 := Scf.iv v772 c1_i32_1196 k3_t33
  let v1832 : Index := Scalar.indexCast arg13
  let c16_1207 : Index := 16#32
  ![v1832.toNat, 16]
def k3_off132 (i : grid3.Coords) (v442 : BitVec 32) (v447 : BitVec 32) (k3_t33 : Fin (k3_t33_loop i v442 v447).trips) : Fin 2 → Nat :=
  let c256_i32_392 : BitVec 32 := 256#32
  let c0_i32_391 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let c1_i32_1196 : BitVec 32 := 1#32
  let arg13 : BitVec 32 := Scf.iv v772 c1_i32_1196 k3_t33
  let v1836 : Index := Scalar.indexCast arg13
  let c32_1208 : Index := 32#32
  ![v1836.toNat, 32]
def k3_off133 (i : grid3.Coords) (v442 : BitVec 32) (v447 : BitVec 32) (k3_t33 : Fin (k3_t33_loop i v442 v447).trips) : Fin 2 → Nat :=
  let c256_i32_392 : BitVec 32 := 256#32
  let c0_i32_391 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let c1_i32_1196 : BitVec 32 := 1#32
  let arg13 : BitVec 32 := Scf.iv v772 c1_i32_1196 k3_t33
  let v1840 : Index := Scalar.indexCast arg13
  let c48_1209 : Index := 48#32
  ![v1840.toNat, 48]
@[reducible] def k3_t34_loop (i : grid3.Coords) (v442 : BitVec 32) (v447 : BitVec 32) : Scf.Loop 32 :=
  let c256_i32_392 : BitVec 32 := 256#32
  let c0_i32_391 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let c256_i32_395 : BitVec 32 := 256#32
  let c0_i32_394 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c0_i32_393 : BitVec 32 := 0#32
  let v773 : BitVec 32 := Scalar.subi v450 c0_i32_393
  let v774 : BitVec 32 := Scalar.maxsi c0_i32_394 v773
  let v775 : BitVec 32 := Scalar.minsi c256_i32_395 v774
  let v1805 : BitVec 32 := Scalar.subi v775 v772
  let c1_i32_1195 : BitVec 32 := 1#32
  let v1807 : BitVec 32 := Scalar.divsi v1805 c1_i32_1195
  let v1808 : BitVec 32 := Scalar.muli v1807 c1_i32_1195
  let v1809 : BitVec 32 := Scalar.addi v772 v1808
  let v1806 : BitVec 32 := Scalar.addi v772 v1805
  let c1_i32_1197 : BitVec 32 := 1#32
  ⟨v1809, v1806, c1_i32_1197⟩
def k3_off134 (i : grid3.Coords) (v442 : BitVec 32) (v447 : BitVec 32) (k3_t34 : Fin (k3_t34_loop i v442 v447).trips) : Fin 2 → Nat :=
  let c256_i32_392 : BitVec 32 := 256#32
  let c0_i32_391 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let c256_i32_395 : BitVec 32 := 256#32
  let c0_i32_394 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c0_i32_393 : BitVec 32 := 0#32
  let v773 : BitVec 32 := Scalar.subi v450 c0_i32_393
  let v774 : BitVec 32 := Scalar.maxsi c0_i32_394 v773
  let v775 : BitVec 32 := Scalar.minsi c256_i32_395 v774
  let v1805 : BitVec 32 := Scalar.subi v775 v772
  let c1_i32_1195 : BitVec 32 := 1#32
  let v1807 : BitVec 32 := Scalar.divsi v1805 c1_i32_1195
  let v1808 : BitVec 32 := Scalar.muli v1807 c1_i32_1195
  let v1809 : BitVec 32 := Scalar.addi v772 v1808
  let c1_i32_1197 : BitVec 32 := 1#32
  let arg13 : BitVec 32 := Scf.iv v1809 c1_i32_1197 k3_t34
  let v1828 : Index := Scalar.indexCast arg13
  let c0_1206 : Index := 0#32
  ![v1828.toNat, 0]
def k3_off135 (i : grid3.Coords) (v442 : BitVec 32) (v447 : BitVec 32) (k3_t34 : Fin (k3_t34_loop i v442 v447).trips) : Fin 2 → Nat :=
  let c256_i32_392 : BitVec 32 := 256#32
  let c0_i32_391 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let c256_i32_395 : BitVec 32 := 256#32
  let c0_i32_394 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c0_i32_393 : BitVec 32 := 0#32
  let v773 : BitVec 32 := Scalar.subi v450 c0_i32_393
  let v774 : BitVec 32 := Scalar.maxsi c0_i32_394 v773
  let v775 : BitVec 32 := Scalar.minsi c256_i32_395 v774
  let v1805 : BitVec 32 := Scalar.subi v775 v772
  let c1_i32_1195 : BitVec 32 := 1#32
  let v1807 : BitVec 32 := Scalar.divsi v1805 c1_i32_1195
  let v1808 : BitVec 32 := Scalar.muli v1807 c1_i32_1195
  let v1809 : BitVec 32 := Scalar.addi v772 v1808
  let c1_i32_1197 : BitVec 32 := 1#32
  let arg13 : BitVec 32 := Scf.iv v1809 c1_i32_1197 k3_t34
  let v1832 : Index := Scalar.indexCast arg13
  let c16_1207 : Index := 16#32
  ![v1832.toNat, 16]
def k3_off136 (i : grid3.Coords) (v442 : BitVec 32) (v447 : BitVec 32) (k3_t34 : Fin (k3_t34_loop i v442 v447).trips) : Fin 2 → Nat :=
  let c256_i32_392 : BitVec 32 := 256#32
  let c0_i32_391 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let c256_i32_395 : BitVec 32 := 256#32
  let c0_i32_394 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c0_i32_393 : BitVec 32 := 0#32
  let v773 : BitVec 32 := Scalar.subi v450 c0_i32_393
  let v774 : BitVec 32 := Scalar.maxsi c0_i32_394 v773
  let v775 : BitVec 32 := Scalar.minsi c256_i32_395 v774
  let v1805 : BitVec 32 := Scalar.subi v775 v772
  let c1_i32_1195 : BitVec 32 := 1#32
  let v1807 : BitVec 32 := Scalar.divsi v1805 c1_i32_1195
  let v1808 : BitVec 32 := Scalar.muli v1807 c1_i32_1195
  let v1809 : BitVec 32 := Scalar.addi v772 v1808
  let c1_i32_1197 : BitVec 32 := 1#32
  let arg13 : BitVec 32 := Scf.iv v1809 c1_i32_1197 k3_t34
  let v1836 : Index := Scalar.indexCast arg13
  let c32_1208 : Index := 32#32
  ![v1836.toNat, 32]
def k3_off137 (i : grid3.Coords) (v442 : BitVec 32) (v447 : BitVec 32) (k3_t34 : Fin (k3_t34_loop i v442 v447).trips) : Fin 2 → Nat :=
  let c256_i32_392 : BitVec 32 := 256#32
  let c0_i32_391 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c0_i32_390 : BitVec 32 := 0#32
  let v770 : BitVec 32 := Scalar.subi v445 c0_i32_390
  let v771 : BitVec 32 := Scalar.maxsi c0_i32_391 v770
  let v772 : BitVec 32 := Scalar.minsi c256_i32_392 v771
  let c256_i32_395 : BitVec 32 := 256#32
  let c0_i32_394 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c0_i32_393 : BitVec 32 := 0#32
  let v773 : BitVec 32 := Scalar.subi v450 c0_i32_393
  let v774 : BitVec 32 := Scalar.maxsi c0_i32_394 v773
  let v775 : BitVec 32 := Scalar.minsi c256_i32_395 v774
  let v1805 : BitVec 32 := Scalar.subi v775 v772
  let c1_i32_1195 : BitVec 32 := 1#32
  let v1807 : BitVec 32 := Scalar.divsi v1805 c1_i32_1195
  let v1808 : BitVec 32 := Scalar.muli v1807 c1_i32_1195
  let v1809 : BitVec 32 := Scalar.addi v772 v1808
  let c1_i32_1197 : BitVec 32 := 1#32
  let arg13 : BitVec 32 := Scf.iv v1809 c1_i32_1197 k3_t34
  let v1840 : Index := Scalar.indexCast arg13
  let c48_1209 : Index := 48#32
  ![v1840.toNat, 48]
@[reducible] def k3_t35_loop (i : grid3.Coords) (v452 : BitVec 32) (v458 : BitVec 32) : Scf.Loop 32 :=
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let c256_i32_402 : BitVec 32 := 256#32
  let c0_i32_401 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c0_i32_400 : BitVec 32 := 0#32
  let v782 : BitVec 32 := Scalar.subi v462 c0_i32_400
  let v783 : BitVec 32 := Scalar.maxsi c0_i32_401 v782
  let v784 : BitVec 32 := Scalar.minsi c256_i32_402 v783
  let v1805 : BitVec 32 := Scalar.subi v784 v781
  let c1_i32_1195 : BitVec 32 := 1#32
  let v1807 : BitVec 32 := Scalar.divsi v1805 c1_i32_1195
  let v1808 : BitVec 32 := Scalar.muli v1807 c1_i32_1195
  let v1809 : BitVec 32 := Scalar.addi v781 v1808
  let c1_i32_1196 : BitVec 32 := 1#32
  ⟨v781, v1809, c1_i32_1196⟩
def k3_cond18 (i : grid3.Coords) (v452 : BitVec 32) (v458 : BitVec 32) : BitVec 1 :=
  let c256_i32_402 : BitVec 32 := 256#32
  let c0_i32_401 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v460 : BitVec 32 := Scalar.subi v459 v3
  let v461 : BitVec 32 := Scalar.maxsi c0_i32_198 v460
  let v462 : BitVec 32 := Scalar.minsi c1024_i32_199 v461
  let c0_i32_400 : BitVec 32 := 0#32
  let v782 : BitVec 32 := Scalar.subi v462 c0_i32_400
  let v783 : BitVec 32 := Scalar.maxsi c0_i32_401 v782
  let v784 : BitVec 32 := Scalar.minsi c256_i32_402 v783
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let v785 : BitVec 1 := Scalar.cmpi .sgt v784 v781
  let v786 : BitVec 32 := Scalar.extui v785
  let c0_i32_403 : BitVec 32 := 0#32
  let v787 : BitVec 1 := Scalar.cmpi .ne v786 c0_i32_403
  v787

def k3_off138 (i : grid3.Coords) (v452 : BitVec 32) (v458 : BitVec 32) (k3_t35 : Fin (k3_t35_loop i v452 v458).trips) : Fin 2 → Nat :=
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let c1_i32_1196 : BitVec 32 := 1#32
  let arg13 : BitVec 32 := Scf.iv v781 c1_i32_1196 k3_t35
  let v1828 : Index := Scalar.indexCast arg13
  let c64 : Index := 64#32
  ![v1828.toNat, 64]
def k3_off139 (i : grid3.Coords) (v452 : BitVec 32) (v458 : BitVec 32) (k3_t35 : Fin (k3_t35_loop i v452 v458).trips) : Fin 2 → Nat :=
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let c1_i32_1196 : BitVec 32 := 1#32
  let arg13 : BitVec 32 := Scf.iv v781 c1_i32_1196 k3_t35
  let v1832 : Index := Scalar.indexCast arg13
  let c80 : Index := 80#32
  ![v1832.toNat, 80]
def k3_off140 (i : grid3.Coords) (v452 : BitVec 32) (v458 : BitVec 32) (k3_t35 : Fin (k3_t35_loop i v452 v458).trips) : Fin 2 → Nat :=
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let c1_i32_1196 : BitVec 32 := 1#32
  let arg13 : BitVec 32 := Scf.iv v781 c1_i32_1196 k3_t35
  let v1836 : Index := Scalar.indexCast arg13
  let c96 : Index := 96#32
  ![v1836.toNat, 96]
def k3_off141 (i : grid3.Coords) (v452 : BitVec 32) (v458 : BitVec 32) (k3_t35 : Fin (k3_t35_loop i v452 v458).trips) : Fin 2 → Nat :=
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let c1_i32_1196 : BitVec 32 := 1#32
  let arg13 : BitVec 32 := Scf.iv v781 c1_i32_1196 k3_t35
  let v1840 : Index := Scalar.indexCast arg13
  let c112 : Index := 112#32
  ![v1840.toNat, 112]
@[reducible] def k3_t36_loop (i : grid3.Coords) (v452 : BitVec 32) (v458 : BitVec 32) : Scf.Loop 32 :=
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let c256_i32_402 : BitVec 32 := 256#32
  let c0_i32_401 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c0_i32_400 : BitVec 32 := 0#32
  let v782 : BitVec 32 := Scalar.subi v462 c0_i32_400
  let v783 : BitVec 32 := Scalar.maxsi c0_i32_401 v782
  let v784 : BitVec 32 := Scalar.minsi c256_i32_402 v783
  let v1805 : BitVec 32 := Scalar.subi v784 v781
  let c1_i32_1195 : BitVec 32 := 1#32
  let v1807 : BitVec 32 := Scalar.divsi v1805 c1_i32_1195
  let v1808 : BitVec 32 := Scalar.muli v1807 c1_i32_1195
  let v1809 : BitVec 32 := Scalar.addi v781 v1808
  let v1806 : BitVec 32 := Scalar.addi v781 v1805
  let c1_i32_1197 : BitVec 32 := 1#32
  ⟨v1809, v1806, c1_i32_1197⟩
def k3_off142 (i : grid3.Coords) (v452 : BitVec 32) (v458 : BitVec 32) (k3_t36 : Fin (k3_t36_loop i v452 v458).trips) : Fin 2 → Nat :=
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let c256_i32_402 : BitVec 32 := 256#32
  let c0_i32_401 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c0_i32_400 : BitVec 32 := 0#32
  let v782 : BitVec 32 := Scalar.subi v462 c0_i32_400
  let v783 : BitVec 32 := Scalar.maxsi c0_i32_401 v782
  let v784 : BitVec 32 := Scalar.minsi c256_i32_402 v783
  let v1805 : BitVec 32 := Scalar.subi v784 v781
  let c1_i32_1195 : BitVec 32 := 1#32
  let v1807 : BitVec 32 := Scalar.divsi v1805 c1_i32_1195
  let v1808 : BitVec 32 := Scalar.muli v1807 c1_i32_1195
  let v1809 : BitVec 32 := Scalar.addi v781 v1808
  let c1_i32_1197 : BitVec 32 := 1#32
  let arg13 : BitVec 32 := Scf.iv v1809 c1_i32_1197 k3_t36
  let v1828 : Index := Scalar.indexCast arg13
  let c64 : Index := 64#32
  ![v1828.toNat, 64]
def k3_off143 (i : grid3.Coords) (v452 : BitVec 32) (v458 : BitVec 32) (k3_t36 : Fin (k3_t36_loop i v452 v458).trips) : Fin 2 → Nat :=
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let c256_i32_402 : BitVec 32 := 256#32
  let c0_i32_401 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c0_i32_400 : BitVec 32 := 0#32
  let v782 : BitVec 32 := Scalar.subi v462 c0_i32_400
  let v783 : BitVec 32 := Scalar.maxsi c0_i32_401 v782
  let v784 : BitVec 32 := Scalar.minsi c256_i32_402 v783
  let v1805 : BitVec 32 := Scalar.subi v784 v781
  let c1_i32_1195 : BitVec 32 := 1#32
  let v1807 : BitVec 32 := Scalar.divsi v1805 c1_i32_1195
  let v1808 : BitVec 32 := Scalar.muli v1807 c1_i32_1195
  let v1809 : BitVec 32 := Scalar.addi v781 v1808
  let c1_i32_1197 : BitVec 32 := 1#32
  let arg13 : BitVec 32 := Scf.iv v1809 c1_i32_1197 k3_t36
  let v1832 : Index := Scalar.indexCast arg13
  let c80 : Index := 80#32
  ![v1832.toNat, 80]
def k3_off144 (i : grid3.Coords) (v452 : BitVec 32) (v458 : BitVec 32) (k3_t36 : Fin (k3_t36_loop i v452 v458).trips) : Fin 2 → Nat :=
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let c256_i32_402 : BitVec 32 := 256#32
  let c0_i32_401 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c0_i32_400 : BitVec 32 := 0#32
  let v782 : BitVec 32 := Scalar.subi v462 c0_i32_400
  let v783 : BitVec 32 := Scalar.maxsi c0_i32_401 v782
  let v784 : BitVec 32 := Scalar.minsi c256_i32_402 v783
  let v1805 : BitVec 32 := Scalar.subi v784 v781
  let c1_i32_1195 : BitVec 32 := 1#32
  let v1807 : BitVec 32 := Scalar.divsi v1805 c1_i32_1195
  let v1808 : BitVec 32 := Scalar.muli v1807 c1_i32_1195
  let v1809 : BitVec 32 := Scalar.addi v781 v1808
  let c1_i32_1197 : BitVec 32 := 1#32
  let arg13 : BitVec 32 := Scf.iv v1809 c1_i32_1197 k3_t36
  let v1836 : Index := Scalar.indexCast arg13
  let c96 : Index := 96#32
  ![v1836.toNat, 96]
def k3_off145 (i : grid3.Coords) (v452 : BitVec 32) (v458 : BitVec 32) (k3_t36 : Fin (k3_t36_loop i v452 v458).trips) : Fin 2 → Nat :=
  let c256_i32_399 : BitVec 32 := 256#32
  let c0_i32_398 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c0_i32_397 : BitVec 32 := 0#32
  let v779 : BitVec 32 := Scalar.subi v456 c0_i32_397
  let v780 : BitVec 32 := Scalar.maxsi c0_i32_398 v779
  let v781 : BitVec 32 := Scalar.minsi c256_i32_399 v780
  let c256_i32_402 : BitVec 32 := 256#32
  let c0_i32_401 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c0_i32_400 : BitVec 32 := 0#32
  let v782 : BitVec 32 := Scalar.subi v462 c0_i32_400
  let v783 : BitVec 32 := Scalar.maxsi c0_i32_401 v782
  let v784 : BitVec 32 := Scalar.minsi c256_i32_402 v783
  let v1805 : BitVec 32 := Scalar.subi v784 v781
  let c1_i32_1195 : BitVec 32 := 1#32
  let v1807 : BitVec 32 := Scalar.divsi v1805 c1_i32_1195
  let v1808 : BitVec 32 := Scalar.muli v1807 c1_i32_1195
  let v1809 : BitVec 32 := Scalar.addi v781 v1808
  let c1_i32_1197 : BitVec 32 := 1#32
  let arg13 : BitVec 32 := Scf.iv v1809 c1_i32_1197 k3_t36
  let v1840 : Index := Scalar.indexCast arg13
  let c112 : Index := 112#32
  ![v1840.toNat, 112]
@[reducible] def k3_t37_loop (i : grid3.Coords) (v464 : BitVec 32) (v469 : BitVec 32) : Scf.Loop 32 :=
  let c256_i32_406 : BitVec 32 := 256#32
  let c0_i32_405 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let c256_i32_409 : BitVec 32 := 256#32
  let c0_i32_408 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c0_i32_407 : BitVec 32 := 0#32
  let v791 : BitVec 32 := Scalar.subi v472 c0_i32_407
  let v792 : BitVec 32 := Scalar.maxsi c0_i32_408 v791
  let v793 : BitVec 32 := Scalar.minsi c256_i32_409 v792
  let v1805 : BitVec 32 := Scalar.subi v793 v790
  let c1_i32_1195 : BitVec 32 := 1#32
  let v1807 : BitVec 32 := Scalar.divsi v1805 c1_i32_1195
  let v1808 : BitVec 32 := Scalar.muli v1807 c1_i32_1195
  let v1809 : BitVec 32 := Scalar.addi v790 v1808
  let c1_i32_1196 : BitVec 32 := 1#32
  ⟨v790, v1809, c1_i32_1196⟩
def k3_cond19 (i : grid3.Coords) (v464 : BitVec 32) (v469 : BitVec 32) : BitVec 1 :=
  let c256_i32_409 : BitVec 32 := 256#32
  let c0_i32_408 : BitVec 32 := 0#32
  let c1024_i32_203 : BitVec 32 := 1024#32
  let c0_i32_202 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v470 : BitVec 32 := Scalar.subi v469 v3
  let v471 : BitVec 32 := Scalar.maxsi c0_i32_202 v470
  let v472 : BitVec 32 := Scalar.minsi c1024_i32_203 v471
  let c0_i32_407 : BitVec 32 := 0#32
  let v791 : BitVec 32 := Scalar.subi v472 c0_i32_407
  let v792 : BitVec 32 := Scalar.maxsi c0_i32_408 v791
  let v793 : BitVec 32 := Scalar.minsi c256_i32_409 v792
  let c256_i32_406 : BitVec 32 := 256#32
  let c0_i32_405 : BitVec 32 := 0#32
  let c1024_i32_201 : BitVec 32 := 1024#32
  let c0_i32_200 : BitVec 32 := 0#32
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let v794 : BitVec 1 := Scalar.cmpi .sgt v793 v790
  let v795 : BitVec 32 := Scalar.extui v794
  let c0_i32_410 : BitVec 32 := 0#32
  let v796 : BitVec 1 := Scalar.cmpi .ne v795 c0_i32_410
  v796

def k3_off146 (i : grid3.Coords) (v464 : BitVec 32) (v469 : BitVec 32) (k3_t37 : Fin (k3_t37_loop i v464 v469).trips) : Fin 2 → Nat :=
  let c256_i32_406 : BitVec 32 := 256#32
  let c0_i32_405 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let c1_i32_1196 : BitVec 32 := 1#32
  let arg13 : BitVec 32 := Scf.iv v790 c1_i32_1196 k3_t37
  let v1828 : Index := Scalar.indexCast arg13
  let c0_1206 : Index := 0#32
  ![v1828.toNat, 0]
def k3_off147 (i : grid3.Coords) (v464 : BitVec 32) (v469 : BitVec 32) (k3_t37 : Fin (k3_t37_loop i v464 v469).trips) : Fin 2 → Nat :=
  let c256_i32_406 : BitVec 32 := 256#32
  let c0_i32_405 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let c1_i32_1196 : BitVec 32 := 1#32
  let arg13 : BitVec 32 := Scf.iv v790 c1_i32_1196 k3_t37
  let v1832 : Index := Scalar.indexCast arg13
  let c16_1207 : Index := 16#32
  ![v1832.toNat, 16]
def k3_off148 (i : grid3.Coords) (v464 : BitVec 32) (v469 : BitVec 32) (k3_t37 : Fin (k3_t37_loop i v464 v469).trips) : Fin 2 → Nat :=
  let c256_i32_406 : BitVec 32 := 256#32
  let c0_i32_405 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let c1_i32_1196 : BitVec 32 := 1#32
  let arg13 : BitVec 32 := Scf.iv v790 c1_i32_1196 k3_t37
  let v1836 : Index := Scalar.indexCast arg13
  let c32_1208 : Index := 32#32
  ![v1836.toNat, 32]
def k3_off149 (i : grid3.Coords) (v464 : BitVec 32) (v469 : BitVec 32) (k3_t37 : Fin (k3_t37_loop i v464 v469).trips) : Fin 2 → Nat :=
  let c256_i32_406 : BitVec 32 := 256#32
  let c0_i32_405 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let c1_i32_1196 : BitVec 32 := 1#32
  let arg13 : BitVec 32 := Scf.iv v790 c1_i32_1196 k3_t37
  let v1840 : Index := Scalar.indexCast arg13
  let c48_1209 : Index := 48#32
  ![v1840.toNat, 48]
@[reducible] def k3_t38_loop (i : grid3.Coords) (v464 : BitVec 32) (v469 : BitVec 32) : Scf.Loop 32 :=
  let c256_i32_406 : BitVec 32 := 256#32
  let c0_i32_405 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let c256_i32_409 : BitVec 32 := 256#32
  let c0_i32_408 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c0_i32_407 : BitVec 32 := 0#32
  let v791 : BitVec 32 := Scalar.subi v472 c0_i32_407
  let v792 : BitVec 32 := Scalar.maxsi c0_i32_408 v791
  let v793 : BitVec 32 := Scalar.minsi c256_i32_409 v792
  let v1805 : BitVec 32 := Scalar.subi v793 v790
  let c1_i32_1195 : BitVec 32 := 1#32
  let v1807 : BitVec 32 := Scalar.divsi v1805 c1_i32_1195
  let v1808 : BitVec 32 := Scalar.muli v1807 c1_i32_1195
  let v1809 : BitVec 32 := Scalar.addi v790 v1808
  let v1806 : BitVec 32 := Scalar.addi v790 v1805
  let c1_i32_1197 : BitVec 32 := 1#32
  ⟨v1809, v1806, c1_i32_1197⟩
def k3_off150 (i : grid3.Coords) (v464 : BitVec 32) (v469 : BitVec 32) (k3_t38 : Fin (k3_t38_loop i v464 v469).trips) : Fin 2 → Nat :=
  let c256_i32_406 : BitVec 32 := 256#32
  let c0_i32_405 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let c256_i32_409 : BitVec 32 := 256#32
  let c0_i32_408 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c0_i32_407 : BitVec 32 := 0#32
  let v791 : BitVec 32 := Scalar.subi v472 c0_i32_407
  let v792 : BitVec 32 := Scalar.maxsi c0_i32_408 v791
  let v793 : BitVec 32 := Scalar.minsi c256_i32_409 v792
  let v1805 : BitVec 32 := Scalar.subi v793 v790
  let c1_i32_1195 : BitVec 32 := 1#32
  let v1807 : BitVec 32 := Scalar.divsi v1805 c1_i32_1195
  let v1808 : BitVec 32 := Scalar.muli v1807 c1_i32_1195
  let v1809 : BitVec 32 := Scalar.addi v790 v1808
  let c1_i32_1197 : BitVec 32 := 1#32
  let arg13 : BitVec 32 := Scf.iv v1809 c1_i32_1197 k3_t38
  let v1828 : Index := Scalar.indexCast arg13
  let c0_1206 : Index := 0#32
  ![v1828.toNat, 0]
def k3_off151 (i : grid3.Coords) (v464 : BitVec 32) (v469 : BitVec 32) (k3_t38 : Fin (k3_t38_loop i v464 v469).trips) : Fin 2 → Nat :=
  let c256_i32_406 : BitVec 32 := 256#32
  let c0_i32_405 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let c256_i32_409 : BitVec 32 := 256#32
  let c0_i32_408 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c0_i32_407 : BitVec 32 := 0#32
  let v791 : BitVec 32 := Scalar.subi v472 c0_i32_407
  let v792 : BitVec 32 := Scalar.maxsi c0_i32_408 v791
  let v793 : BitVec 32 := Scalar.minsi c256_i32_409 v792
  let v1805 : BitVec 32 := Scalar.subi v793 v790
  let c1_i32_1195 : BitVec 32 := 1#32
  let v1807 : BitVec 32 := Scalar.divsi v1805 c1_i32_1195
  let v1808 : BitVec 32 := Scalar.muli v1807 c1_i32_1195
  let v1809 : BitVec 32 := Scalar.addi v790 v1808
  let c1_i32_1197 : BitVec 32 := 1#32
  let arg13 : BitVec 32 := Scf.iv v1809 c1_i32_1197 k3_t38
  let v1832 : Index := Scalar.indexCast arg13
  let c16_1207 : Index := 16#32
  ![v1832.toNat, 16]
def k3_off152 (i : grid3.Coords) (v464 : BitVec 32) (v469 : BitVec 32) (k3_t38 : Fin (k3_t38_loop i v464 v469).trips) : Fin 2 → Nat :=
  let c256_i32_406 : BitVec 32 := 256#32
  let c0_i32_405 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let c256_i32_409 : BitVec 32 := 256#32
  let c0_i32_408 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c0_i32_407 : BitVec 32 := 0#32
  let v791 : BitVec 32 := Scalar.subi v472 c0_i32_407
  let v792 : BitVec 32 := Scalar.maxsi c0_i32_408 v791
  let v793 : BitVec 32 := Scalar.minsi c256_i32_409 v792
  let v1805 : BitVec 32 := Scalar.subi v793 v790
  let c1_i32_1195 : BitVec 32 := 1#32
  let v1807 : BitVec 32 := Scalar.divsi v1805 c1_i32_1195
  let v1808 : BitVec 32 := Scalar.muli v1807 c1_i32_1195
  let v1809 : BitVec 32 := Scalar.addi v790 v1808
  let c1_i32_1197 : BitVec 32 := 1#32
  let arg13 : BitVec 32 := Scf.iv v1809 c1_i32_1197 k3_t38
  let v1836 : Index := Scalar.indexCast arg13
  let c32_1208 : Index := 32#32
  ![v1836.toNat, 32]
def k3_off153 (i : grid3.Coords) (v464 : BitVec 32) (v469 : BitVec 32) (k3_t38 : Fin (k3_t38_loop i v464 v469).trips) : Fin 2 → Nat :=
  let c256_i32_406 : BitVec 32 := 256#32
  let c0_i32_405 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c0_i32_404 : BitVec 32 := 0#32
  let v788 : BitVec 32 := Scalar.subi v467 c0_i32_404
  let v789 : BitVec 32 := Scalar.maxsi c0_i32_405 v788
  let v790 : BitVec 32 := Scalar.minsi c256_i32_406 v789
  let c256_i32_409 : BitVec 32 := 256#32
  let c0_i32_408 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c0_i32_407 : BitVec 32 := 0#32
  let v791 : BitVec 32 := Scalar.subi v472 c0_i32_407
  let v792 : BitVec 32 := Scalar.maxsi c0_i32_408 v791
  let v793 : BitVec 32 := Scalar.minsi c256_i32_409 v792
  let v1805 : BitVec 32 := Scalar.subi v793 v790
  let c1_i32_1195 : BitVec 32 := 1#32
  let v1807 : BitVec 32 := Scalar.divsi v1805 c1_i32_1195
  let v1808 : BitVec 32 := Scalar.muli v1807 c1_i32_1195
  let v1809 : BitVec 32 := Scalar.addi v790 v1808
  let c1_i32_1197 : BitVec 32 := 1#32
  let arg13 : BitVec 32 := Scf.iv v1809 c1_i32_1197 k3_t38
  let v1840 : Index := Scalar.indexCast arg13
  let c48_1209 : Index := 48#32
  ![v1840.toNat, 48]
@[reducible] def k3_t39_loop (i : grid3.Coords) (v474 : BitVec 32) (v480 : BitVec 32) : Scf.Loop 32 :=
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let c256_i32_416 : BitVec 32 := 256#32
  let c0_i32_415 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c0_i32_414 : BitVec 32 := 0#32
  let v800 : BitVec 32 := Scalar.subi v484 c0_i32_414
  let v801 : BitVec 32 := Scalar.maxsi c0_i32_415 v800
  let v802 : BitVec 32 := Scalar.minsi c256_i32_416 v801
  let v1805 : BitVec 32 := Scalar.subi v802 v799
  let c1_i32_1195 : BitVec 32 := 1#32
  let v1807 : BitVec 32 := Scalar.divsi v1805 c1_i32_1195
  let v1808 : BitVec 32 := Scalar.muli v1807 c1_i32_1195
  let v1809 : BitVec 32 := Scalar.addi v799 v1808
  let c1_i32_1196 : BitVec 32 := 1#32
  ⟨v799, v1809, c1_i32_1196⟩
def k3_cond20 (i : grid3.Coords) (v474 : BitVec 32) (v480 : BitVec 32) : BitVec 1 :=
  let c256_i32_416 : BitVec 32 := 256#32
  let c0_i32_415 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v482 : BitVec 32 := Scalar.subi v481 v3
  let v483 : BitVec 32 := Scalar.maxsi c0_i32_208 v482
  let v484 : BitVec 32 := Scalar.minsi c1024_i32_209 v483
  let c0_i32_414 : BitVec 32 := 0#32
  let v800 : BitVec 32 := Scalar.subi v484 c0_i32_414
  let v801 : BitVec 32 := Scalar.maxsi c0_i32_415 v800
  let v802 : BitVec 32 := Scalar.minsi c256_i32_416 v801
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let v803 : BitVec 1 := Scalar.cmpi .sgt v802 v799
  let v804 : BitVec 32 := Scalar.extui v803
  let c0_i32_417 : BitVec 32 := 0#32
  let v805 : BitVec 1 := Scalar.cmpi .ne v804 c0_i32_417
  v805

def k3_off154 (i : grid3.Coords) (v474 : BitVec 32) (v480 : BitVec 32) (k3_t39 : Fin (k3_t39_loop i v474 v480).trips) : Fin 2 → Nat :=
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let c1_i32_1196 : BitVec 32 := 1#32
  let arg13 : BitVec 32 := Scf.iv v799 c1_i32_1196 k3_t39
  let v1828 : Index := Scalar.indexCast arg13
  let c64 : Index := 64#32
  ![v1828.toNat, 64]
def k3_off155 (i : grid3.Coords) (v474 : BitVec 32) (v480 : BitVec 32) (k3_t39 : Fin (k3_t39_loop i v474 v480).trips) : Fin 2 → Nat :=
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let c1_i32_1196 : BitVec 32 := 1#32
  let arg13 : BitVec 32 := Scf.iv v799 c1_i32_1196 k3_t39
  let v1832 : Index := Scalar.indexCast arg13
  let c80 : Index := 80#32
  ![v1832.toNat, 80]
def k3_off156 (i : grid3.Coords) (v474 : BitVec 32) (v480 : BitVec 32) (k3_t39 : Fin (k3_t39_loop i v474 v480).trips) : Fin 2 → Nat :=
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let c1_i32_1196 : BitVec 32 := 1#32
  let arg13 : BitVec 32 := Scf.iv v799 c1_i32_1196 k3_t39
  let v1836 : Index := Scalar.indexCast arg13
  let c96 : Index := 96#32
  ![v1836.toNat, 96]
def k3_off157 (i : grid3.Coords) (v474 : BitVec 32) (v480 : BitVec 32) (k3_t39 : Fin (k3_t39_loop i v474 v480).trips) : Fin 2 → Nat :=
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let c1_i32_1196 : BitVec 32 := 1#32
  let arg13 : BitVec 32 := Scf.iv v799 c1_i32_1196 k3_t39
  let v1840 : Index := Scalar.indexCast arg13
  let c112 : Index := 112#32
  ![v1840.toNat, 112]
@[reducible] def k3_t40_loop (i : grid3.Coords) (v474 : BitVec 32) (v480 : BitVec 32) : Scf.Loop 32 :=
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let c256_i32_416 : BitVec 32 := 256#32
  let c0_i32_415 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c0_i32_414 : BitVec 32 := 0#32
  let v800 : BitVec 32 := Scalar.subi v484 c0_i32_414
  let v801 : BitVec 32 := Scalar.maxsi c0_i32_415 v800
  let v802 : BitVec 32 := Scalar.minsi c256_i32_416 v801
  let v1805 : BitVec 32 := Scalar.subi v802 v799
  let c1_i32_1195 : BitVec 32 := 1#32
  let v1807 : BitVec 32 := Scalar.divsi v1805 c1_i32_1195
  let v1808 : BitVec 32 := Scalar.muli v1807 c1_i32_1195
  let v1809 : BitVec 32 := Scalar.addi v799 v1808
  let v1806 : BitVec 32 := Scalar.addi v799 v1805
  let c1_i32_1197 : BitVec 32 := 1#32
  ⟨v1809, v1806, c1_i32_1197⟩
def k3_off158 (i : grid3.Coords) (v474 : BitVec 32) (v480 : BitVec 32) (k3_t40 : Fin (k3_t40_loop i v474 v480).trips) : Fin 2 → Nat :=
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let c256_i32_416 : BitVec 32 := 256#32
  let c0_i32_415 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c0_i32_414 : BitVec 32 := 0#32
  let v800 : BitVec 32 := Scalar.subi v484 c0_i32_414
  let v801 : BitVec 32 := Scalar.maxsi c0_i32_415 v800
  let v802 : BitVec 32 := Scalar.minsi c256_i32_416 v801
  let v1805 : BitVec 32 := Scalar.subi v802 v799
  let c1_i32_1195 : BitVec 32 := 1#32
  let v1807 : BitVec 32 := Scalar.divsi v1805 c1_i32_1195
  let v1808 : BitVec 32 := Scalar.muli v1807 c1_i32_1195
  let v1809 : BitVec 32 := Scalar.addi v799 v1808
  let c1_i32_1197 : BitVec 32 := 1#32
  let arg13 : BitVec 32 := Scf.iv v1809 c1_i32_1197 k3_t40
  let v1828 : Index := Scalar.indexCast arg13
  let c64 : Index := 64#32
  ![v1828.toNat, 64]
def k3_off159 (i : grid3.Coords) (v474 : BitVec 32) (v480 : BitVec 32) (k3_t40 : Fin (k3_t40_loop i v474 v480).trips) : Fin 2 → Nat :=
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let c256_i32_416 : BitVec 32 := 256#32
  let c0_i32_415 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c0_i32_414 : BitVec 32 := 0#32
  let v800 : BitVec 32 := Scalar.subi v484 c0_i32_414
  let v801 : BitVec 32 := Scalar.maxsi c0_i32_415 v800
  let v802 : BitVec 32 := Scalar.minsi c256_i32_416 v801
  let v1805 : BitVec 32 := Scalar.subi v802 v799
  let c1_i32_1195 : BitVec 32 := 1#32
  let v1807 : BitVec 32 := Scalar.divsi v1805 c1_i32_1195
  let v1808 : BitVec 32 := Scalar.muli v1807 c1_i32_1195
  let v1809 : BitVec 32 := Scalar.addi v799 v1808
  let c1_i32_1197 : BitVec 32 := 1#32
  let arg13 : BitVec 32 := Scf.iv v1809 c1_i32_1197 k3_t40
  let v1832 : Index := Scalar.indexCast arg13
  let c80 : Index := 80#32
  ![v1832.toNat, 80]
def k3_off160 (i : grid3.Coords) (v474 : BitVec 32) (v480 : BitVec 32) (k3_t40 : Fin (k3_t40_loop i v474 v480).trips) : Fin 2 → Nat :=
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let c256_i32_416 : BitVec 32 := 256#32
  let c0_i32_415 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c0_i32_414 : BitVec 32 := 0#32
  let v800 : BitVec 32 := Scalar.subi v484 c0_i32_414
  let v801 : BitVec 32 := Scalar.maxsi c0_i32_415 v800
  let v802 : BitVec 32 := Scalar.minsi c256_i32_416 v801
  let v1805 : BitVec 32 := Scalar.subi v802 v799
  let c1_i32_1195 : BitVec 32 := 1#32
  let v1807 : BitVec 32 := Scalar.divsi v1805 c1_i32_1195
  let v1808 : BitVec 32 := Scalar.muli v1807 c1_i32_1195
  let v1809 : BitVec 32 := Scalar.addi v799 v1808
  let c1_i32_1197 : BitVec 32 := 1#32
  let arg13 : BitVec 32 := Scf.iv v1809 c1_i32_1197 k3_t40
  let v1836 : Index := Scalar.indexCast arg13
  let c96 : Index := 96#32
  ![v1836.toNat, 96]
def k3_off161 (i : grid3.Coords) (v474 : BitVec 32) (v480 : BitVec 32) (k3_t40 : Fin (k3_t40_loop i v474 v480).trips) : Fin 2 → Nat :=
  let c256_i32_413 : BitVec 32 := 256#32
  let c0_i32_412 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c0_i32_411 : BitVec 32 := 0#32
  let v797 : BitVec 32 := Scalar.subi v478 c0_i32_411
  let v798 : BitVec 32 := Scalar.maxsi c0_i32_412 v797
  let v799 : BitVec 32 := Scalar.minsi c256_i32_413 v798
  let c256_i32_416 : BitVec 32 := 256#32
  let c0_i32_415 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c0_i32_414 : BitVec 32 := 0#32
  let v800 : BitVec 32 := Scalar.subi v484 c0_i32_414
  let v801 : BitVec 32 := Scalar.maxsi c0_i32_415 v800
  let v802 : BitVec 32 := Scalar.minsi c256_i32_416 v801
  let v1805 : BitVec 32 := Scalar.subi v802 v799
  let c1_i32_1195 : BitVec 32 := 1#32
  let v1807 : BitVec 32 := Scalar.divsi v1805 c1_i32_1195
  let v1808 : BitVec 32 := Scalar.muli v1807 c1_i32_1195
  let v1809 : BitVec 32 := Scalar.addi v799 v1808
  let c1_i32_1197 : BitVec 32 := 1#32
  let arg13 : BitVec 32 := Scf.iv v1809 c1_i32_1197 k3_t40
  let v1840 : Index := Scalar.indexCast arg13
  let c112 : Index := 112#32
  ![v1840.toNat, 112]
@[reducible] def k3_t41_loop (i : grid3.Coords) (v486 : BitVec 32) (v491 : BitVec 32) : Scf.Loop 32 :=
  let c256_i32_420 : BitVec 32 := 256#32
  let c0_i32_419 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let c256_i32_423 : BitVec 32 := 256#32
  let c0_i32_422 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c0_i32_421 : BitVec 32 := 0#32
  let v809 : BitVec 32 := Scalar.subi v494 c0_i32_421
  let v810 : BitVec 32 := Scalar.maxsi c0_i32_422 v809
  let v811 : BitVec 32 := Scalar.minsi c256_i32_423 v810
  let v1805 : BitVec 32 := Scalar.subi v811 v808
  let c1_i32_1195 : BitVec 32 := 1#32
  let v1807 : BitVec 32 := Scalar.divsi v1805 c1_i32_1195
  let v1808 : BitVec 32 := Scalar.muli v1807 c1_i32_1195
  let v1809 : BitVec 32 := Scalar.addi v808 v1808
  let c1_i32_1196 : BitVec 32 := 1#32
  ⟨v808, v1809, c1_i32_1196⟩
def k3_cond21 (i : grid3.Coords) (v486 : BitVec 32) (v491 : BitVec 32) : BitVec 1 :=
  let c256_i32_423 : BitVec 32 := 256#32
  let c0_i32_422 : BitVec 32 := 0#32
  let c1024_i32_213 : BitVec 32 := 1024#32
  let c0_i32_212 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v492 : BitVec 32 := Scalar.subi v491 v3
  let v493 : BitVec 32 := Scalar.maxsi c0_i32_212 v492
  let v494 : BitVec 32 := Scalar.minsi c1024_i32_213 v493
  let c0_i32_421 : BitVec 32 := 0#32
  let v809 : BitVec 32 := Scalar.subi v494 c0_i32_421
  let v810 : BitVec 32 := Scalar.maxsi c0_i32_422 v809
  let v811 : BitVec 32 := Scalar.minsi c256_i32_423 v810
  let c256_i32_420 : BitVec 32 := 256#32
  let c0_i32_419 : BitVec 32 := 0#32
  let c1024_i32_211 : BitVec 32 := 1024#32
  let c0_i32_210 : BitVec 32 := 0#32
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let v812 : BitVec 1 := Scalar.cmpi .sgt v811 v808
  let v813 : BitVec 32 := Scalar.extui v812
  let c0_i32_424 : BitVec 32 := 0#32
  let v814 : BitVec 1 := Scalar.cmpi .ne v813 c0_i32_424
  v814

def k3_off162 (i : grid3.Coords) (v486 : BitVec 32) (v491 : BitVec 32) (k3_t41 : Fin (k3_t41_loop i v486 v491).trips) : Fin 2 → Nat :=
  let c256_i32_420 : BitVec 32 := 256#32
  let c0_i32_419 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let c1_i32_1196 : BitVec 32 := 1#32
  let arg13 : BitVec 32 := Scf.iv v808 c1_i32_1196 k3_t41
  let v1828 : Index := Scalar.indexCast arg13
  let c0_1206 : Index := 0#32
  ![v1828.toNat, 0]
def k3_off163 (i : grid3.Coords) (v486 : BitVec 32) (v491 : BitVec 32) (k3_t41 : Fin (k3_t41_loop i v486 v491).trips) : Fin 2 → Nat :=
  let c256_i32_420 : BitVec 32 := 256#32
  let c0_i32_419 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let c1_i32_1196 : BitVec 32 := 1#32
  let arg13 : BitVec 32 := Scf.iv v808 c1_i32_1196 k3_t41
  let v1832 : Index := Scalar.indexCast arg13
  let c16_1207 : Index := 16#32
  ![v1832.toNat, 16]
def k3_off164 (i : grid3.Coords) (v486 : BitVec 32) (v491 : BitVec 32) (k3_t41 : Fin (k3_t41_loop i v486 v491).trips) : Fin 2 → Nat :=
  let c256_i32_420 : BitVec 32 := 256#32
  let c0_i32_419 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let c1_i32_1196 : BitVec 32 := 1#32
  let arg13 : BitVec 32 := Scf.iv v808 c1_i32_1196 k3_t41
  let v1836 : Index := Scalar.indexCast arg13
  let c32_1208 : Index := 32#32
  ![v1836.toNat, 32]
def k3_off165 (i : grid3.Coords) (v486 : BitVec 32) (v491 : BitVec 32) (k3_t41 : Fin (k3_t41_loop i v486 v491).trips) : Fin 2 → Nat :=
  let c256_i32_420 : BitVec 32 := 256#32
  let c0_i32_419 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let c1_i32_1196 : BitVec 32 := 1#32
  let arg13 : BitVec 32 := Scf.iv v808 c1_i32_1196 k3_t41
  let v1840 : Index := Scalar.indexCast arg13
  let c48_1209 : Index := 48#32
  ![v1840.toNat, 48]
@[reducible] def k3_t42_loop (i : grid3.Coords) (v486 : BitVec 32) (v491 : BitVec 32) : Scf.Loop 32 :=
  let c256_i32_420 : BitVec 32 := 256#32
  let c0_i32_419 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let c256_i32_423 : BitVec 32 := 256#32
  let c0_i32_422 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c0_i32_421 : BitVec 32 := 0#32
  let v809 : BitVec 32 := Scalar.subi v494 c0_i32_421
  let v810 : BitVec 32 := Scalar.maxsi c0_i32_422 v809
  let v811 : BitVec 32 := Scalar.minsi c256_i32_423 v810
  let v1805 : BitVec 32 := Scalar.subi v811 v808
  let c1_i32_1195 : BitVec 32 := 1#32
  let v1807 : BitVec 32 := Scalar.divsi v1805 c1_i32_1195
  let v1808 : BitVec 32 := Scalar.muli v1807 c1_i32_1195
  let v1809 : BitVec 32 := Scalar.addi v808 v1808
  let v1806 : BitVec 32 := Scalar.addi v808 v1805
  let c1_i32_1197 : BitVec 32 := 1#32
  ⟨v1809, v1806, c1_i32_1197⟩
def k3_off166 (i : grid3.Coords) (v486 : BitVec 32) (v491 : BitVec 32) (k3_t42 : Fin (k3_t42_loop i v486 v491).trips) : Fin 2 → Nat :=
  let c256_i32_420 : BitVec 32 := 256#32
  let c0_i32_419 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let c256_i32_423 : BitVec 32 := 256#32
  let c0_i32_422 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c0_i32_421 : BitVec 32 := 0#32
  let v809 : BitVec 32 := Scalar.subi v494 c0_i32_421
  let v810 : BitVec 32 := Scalar.maxsi c0_i32_422 v809
  let v811 : BitVec 32 := Scalar.minsi c256_i32_423 v810
  let v1805 : BitVec 32 := Scalar.subi v811 v808
  let c1_i32_1195 : BitVec 32 := 1#32
  let v1807 : BitVec 32 := Scalar.divsi v1805 c1_i32_1195
  let v1808 : BitVec 32 := Scalar.muli v1807 c1_i32_1195
  let v1809 : BitVec 32 := Scalar.addi v808 v1808
  let c1_i32_1197 : BitVec 32 := 1#32
  let arg13 : BitVec 32 := Scf.iv v1809 c1_i32_1197 k3_t42
  let v1828 : Index := Scalar.indexCast arg13
  let c0_1206 : Index := 0#32
  ![v1828.toNat, 0]
def k3_off167 (i : grid3.Coords) (v486 : BitVec 32) (v491 : BitVec 32) (k3_t42 : Fin (k3_t42_loop i v486 v491).trips) : Fin 2 → Nat :=
  let c256_i32_420 : BitVec 32 := 256#32
  let c0_i32_419 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let c256_i32_423 : BitVec 32 := 256#32
  let c0_i32_422 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c0_i32_421 : BitVec 32 := 0#32
  let v809 : BitVec 32 := Scalar.subi v494 c0_i32_421
  let v810 : BitVec 32 := Scalar.maxsi c0_i32_422 v809
  let v811 : BitVec 32 := Scalar.minsi c256_i32_423 v810
  let v1805 : BitVec 32 := Scalar.subi v811 v808
  let c1_i32_1195 : BitVec 32 := 1#32
  let v1807 : BitVec 32 := Scalar.divsi v1805 c1_i32_1195
  let v1808 : BitVec 32 := Scalar.muli v1807 c1_i32_1195
  let v1809 : BitVec 32 := Scalar.addi v808 v1808
  let c1_i32_1197 : BitVec 32 := 1#32
  let arg13 : BitVec 32 := Scf.iv v1809 c1_i32_1197 k3_t42
  let v1832 : Index := Scalar.indexCast arg13
  let c16_1207 : Index := 16#32
  ![v1832.toNat, 16]
def k3_off168 (i : grid3.Coords) (v486 : BitVec 32) (v491 : BitVec 32) (k3_t42 : Fin (k3_t42_loop i v486 v491).trips) : Fin 2 → Nat :=
  let c256_i32_420 : BitVec 32 := 256#32
  let c0_i32_419 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let c256_i32_423 : BitVec 32 := 256#32
  let c0_i32_422 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c0_i32_421 : BitVec 32 := 0#32
  let v809 : BitVec 32 := Scalar.subi v494 c0_i32_421
  let v810 : BitVec 32 := Scalar.maxsi c0_i32_422 v809
  let v811 : BitVec 32 := Scalar.minsi c256_i32_423 v810
  let v1805 : BitVec 32 := Scalar.subi v811 v808
  let c1_i32_1195 : BitVec 32 := 1#32
  let v1807 : BitVec 32 := Scalar.divsi v1805 c1_i32_1195
  let v1808 : BitVec 32 := Scalar.muli v1807 c1_i32_1195
  let v1809 : BitVec 32 := Scalar.addi v808 v1808
  let c1_i32_1197 : BitVec 32 := 1#32
  let arg13 : BitVec 32 := Scf.iv v1809 c1_i32_1197 k3_t42
  let v1836 : Index := Scalar.indexCast arg13
  let c32_1208 : Index := 32#32
  ![v1836.toNat, 32]
def k3_off169 (i : grid3.Coords) (v486 : BitVec 32) (v491 : BitVec 32) (k3_t42 : Fin (k3_t42_loop i v486 v491).trips) : Fin 2 → Nat :=
  let c256_i32_420 : BitVec 32 := 256#32
  let c0_i32_419 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c0_i32_418 : BitVec 32 := 0#32
  let v806 : BitVec 32 := Scalar.subi v489 c0_i32_418
  let v807 : BitVec 32 := Scalar.maxsi c0_i32_419 v806
  let v808 : BitVec 32 := Scalar.minsi c256_i32_420 v807
  let c256_i32_423 : BitVec 32 := 256#32
  let c0_i32_422 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c0_i32_421 : BitVec 32 := 0#32
  let v809 : BitVec 32 := Scalar.subi v494 c0_i32_421
  let v810 : BitVec 32 := Scalar.maxsi c0_i32_422 v809
  let v811 : BitVec 32 := Scalar.minsi c256_i32_423 v810
  let v1805 : BitVec 32 := Scalar.subi v811 v808
  let c1_i32_1195 : BitVec 32 := 1#32
  let v1807 : BitVec 32 := Scalar.divsi v1805 c1_i32_1195
  let v1808 : BitVec 32 := Scalar.muli v1807 c1_i32_1195
  let v1809 : BitVec 32 := Scalar.addi v808 v1808
  let c1_i32_1197 : BitVec 32 := 1#32
  let arg13 : BitVec 32 := Scf.iv v1809 c1_i32_1197 k3_t42
  let v1840 : Index := Scalar.indexCast arg13
  let c48_1209 : Index := 48#32
  ![v1840.toNat, 48]
@[reducible] def k3_t43_loop (i : grid3.Coords) (v496 : BitVec 32) (v502 : BitVec 32) : Scf.Loop 32 :=
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let c256_i32_430 : BitVec 32 := 256#32
  let c0_i32_429 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c0_i32_428 : BitVec 32 := 0#32
  let v818 : BitVec 32 := Scalar.subi v506 c0_i32_428
  let v819 : BitVec 32 := Scalar.maxsi c0_i32_429 v818
  let v820 : BitVec 32 := Scalar.minsi c256_i32_430 v819
  let v1805 : BitVec 32 := Scalar.subi v820 v817
  let c1_i32_1195 : BitVec 32 := 1#32
  let v1807 : BitVec 32 := Scalar.divsi v1805 c1_i32_1195
  let v1808 : BitVec 32 := Scalar.muli v1807 c1_i32_1195
  let v1809 : BitVec 32 := Scalar.addi v817 v1808
  let c1_i32_1196 : BitVec 32 := 1#32
  ⟨v817, v1809, c1_i32_1196⟩
def k3_cond22 (i : grid3.Coords) (v496 : BitVec 32) (v502 : BitVec 32) : BitVec 1 :=
  let c256_i32_430 : BitVec 32 := 256#32
  let c0_i32_429 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v504 : BitVec 32 := Scalar.subi v503 v3
  let v505 : BitVec 32 := Scalar.maxsi c0_i32_218 v504
  let v506 : BitVec 32 := Scalar.minsi c1024_i32_219 v505
  let c0_i32_428 : BitVec 32 := 0#32
  let v818 : BitVec 32 := Scalar.subi v506 c0_i32_428
  let v819 : BitVec 32 := Scalar.maxsi c0_i32_429 v818
  let v820 : BitVec 32 := Scalar.minsi c256_i32_430 v819
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let v821 : BitVec 1 := Scalar.cmpi .sgt v820 v817
  let v822 : BitVec 32 := Scalar.extui v821
  let c0_i32_431 : BitVec 32 := 0#32
  let v823 : BitVec 1 := Scalar.cmpi .ne v822 c0_i32_431
  v823

def k3_off170 (i : grid3.Coords) (v496 : BitVec 32) (v502 : BitVec 32) (k3_t43 : Fin (k3_t43_loop i v496 v502).trips) : Fin 2 → Nat :=
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let c1_i32_1196 : BitVec 32 := 1#32
  let arg13 : BitVec 32 := Scf.iv v817 c1_i32_1196 k3_t43
  let v1828 : Index := Scalar.indexCast arg13
  let c64 : Index := 64#32
  ![v1828.toNat, 64]
def k3_off171 (i : grid3.Coords) (v496 : BitVec 32) (v502 : BitVec 32) (k3_t43 : Fin (k3_t43_loop i v496 v502).trips) : Fin 2 → Nat :=
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let c1_i32_1196 : BitVec 32 := 1#32
  let arg13 : BitVec 32 := Scf.iv v817 c1_i32_1196 k3_t43
  let v1832 : Index := Scalar.indexCast arg13
  let c80 : Index := 80#32
  ![v1832.toNat, 80]
def k3_off172 (i : grid3.Coords) (v496 : BitVec 32) (v502 : BitVec 32) (k3_t43 : Fin (k3_t43_loop i v496 v502).trips) : Fin 2 → Nat :=
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let c1_i32_1196 : BitVec 32 := 1#32
  let arg13 : BitVec 32 := Scf.iv v817 c1_i32_1196 k3_t43
  let v1836 : Index := Scalar.indexCast arg13
  let c96 : Index := 96#32
  ![v1836.toNat, 96]
def k3_off173 (i : grid3.Coords) (v496 : BitVec 32) (v502 : BitVec 32) (k3_t43 : Fin (k3_t43_loop i v496 v502).trips) : Fin 2 → Nat :=
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let c1_i32_1196 : BitVec 32 := 1#32
  let arg13 : BitVec 32 := Scf.iv v817 c1_i32_1196 k3_t43
  let v1840 : Index := Scalar.indexCast arg13
  let c112 : Index := 112#32
  ![v1840.toNat, 112]
@[reducible] def k3_t44_loop (i : grid3.Coords) (v496 : BitVec 32) (v502 : BitVec 32) : Scf.Loop 32 :=
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let c256_i32_430 : BitVec 32 := 256#32
  let c0_i32_429 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c0_i32_428 : BitVec 32 := 0#32
  let v818 : BitVec 32 := Scalar.subi v506 c0_i32_428
  let v819 : BitVec 32 := Scalar.maxsi c0_i32_429 v818
  let v820 : BitVec 32 := Scalar.minsi c256_i32_430 v819
  let v1805 : BitVec 32 := Scalar.subi v820 v817
  let c1_i32_1195 : BitVec 32 := 1#32
  let v1807 : BitVec 32 := Scalar.divsi v1805 c1_i32_1195
  let v1808 : BitVec 32 := Scalar.muli v1807 c1_i32_1195
  let v1809 : BitVec 32 := Scalar.addi v817 v1808
  let v1806 : BitVec 32 := Scalar.addi v817 v1805
  let c1_i32_1197 : BitVec 32 := 1#32
  ⟨v1809, v1806, c1_i32_1197⟩
def k3_off174 (i : grid3.Coords) (v496 : BitVec 32) (v502 : BitVec 32) (k3_t44 : Fin (k3_t44_loop i v496 v502).trips) : Fin 2 → Nat :=
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let c256_i32_430 : BitVec 32 := 256#32
  let c0_i32_429 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c0_i32_428 : BitVec 32 := 0#32
  let v818 : BitVec 32 := Scalar.subi v506 c0_i32_428
  let v819 : BitVec 32 := Scalar.maxsi c0_i32_429 v818
  let v820 : BitVec 32 := Scalar.minsi c256_i32_430 v819
  let v1805 : BitVec 32 := Scalar.subi v820 v817
  let c1_i32_1195 : BitVec 32 := 1#32
  let v1807 : BitVec 32 := Scalar.divsi v1805 c1_i32_1195
  let v1808 : BitVec 32 := Scalar.muli v1807 c1_i32_1195
  let v1809 : BitVec 32 := Scalar.addi v817 v1808
  let c1_i32_1197 : BitVec 32 := 1#32
  let arg13 : BitVec 32 := Scf.iv v1809 c1_i32_1197 k3_t44
  let v1828 : Index := Scalar.indexCast arg13
  let c64 : Index := 64#32
  ![v1828.toNat, 64]
def k3_off175 (i : grid3.Coords) (v496 : BitVec 32) (v502 : BitVec 32) (k3_t44 : Fin (k3_t44_loop i v496 v502).trips) : Fin 2 → Nat :=
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let c256_i32_430 : BitVec 32 := 256#32
  let c0_i32_429 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c0_i32_428 : BitVec 32 := 0#32
  let v818 : BitVec 32 := Scalar.subi v506 c0_i32_428
  let v819 : BitVec 32 := Scalar.maxsi c0_i32_429 v818
  let v820 : BitVec 32 := Scalar.minsi c256_i32_430 v819
  let v1805 : BitVec 32 := Scalar.subi v820 v817
  let c1_i32_1195 : BitVec 32 := 1#32
  let v1807 : BitVec 32 := Scalar.divsi v1805 c1_i32_1195
  let v1808 : BitVec 32 := Scalar.muli v1807 c1_i32_1195
  let v1809 : BitVec 32 := Scalar.addi v817 v1808
  let c1_i32_1197 : BitVec 32 := 1#32
  let arg13 : BitVec 32 := Scf.iv v1809 c1_i32_1197 k3_t44
  let v1832 : Index := Scalar.indexCast arg13
  let c80 : Index := 80#32
  ![v1832.toNat, 80]
def k3_off176 (i : grid3.Coords) (v496 : BitVec 32) (v502 : BitVec 32) (k3_t44 : Fin (k3_t44_loop i v496 v502).trips) : Fin 2 → Nat :=
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let c256_i32_430 : BitVec 32 := 256#32
  let c0_i32_429 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c0_i32_428 : BitVec 32 := 0#32
  let v818 : BitVec 32 := Scalar.subi v506 c0_i32_428
  let v819 : BitVec 32 := Scalar.maxsi c0_i32_429 v818
  let v820 : BitVec 32 := Scalar.minsi c256_i32_430 v819
  let v1805 : BitVec 32 := Scalar.subi v820 v817
  let c1_i32_1195 : BitVec 32 := 1#32
  let v1807 : BitVec 32 := Scalar.divsi v1805 c1_i32_1195
  let v1808 : BitVec 32 := Scalar.muli v1807 c1_i32_1195
  let v1809 : BitVec 32 := Scalar.addi v817 v1808
  let c1_i32_1197 : BitVec 32 := 1#32
  let arg13 : BitVec 32 := Scf.iv v1809 c1_i32_1197 k3_t44
  let v1836 : Index := Scalar.indexCast arg13
  let c96 : Index := 96#32
  ![v1836.toNat, 96]
def k3_off177 (i : grid3.Coords) (v496 : BitVec 32) (v502 : BitVec 32) (k3_t44 : Fin (k3_t44_loop i v496 v502).trips) : Fin 2 → Nat :=
  let c256_i32_427 : BitVec 32 := 256#32
  let c0_i32_426 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c0_i32_425 : BitVec 32 := 0#32
  let v815 : BitVec 32 := Scalar.subi v500 c0_i32_425
  let v816 : BitVec 32 := Scalar.maxsi c0_i32_426 v815
  let v817 : BitVec 32 := Scalar.minsi c256_i32_427 v816
  let c256_i32_430 : BitVec 32 := 256#32
  let c0_i32_429 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c0_i32_428 : BitVec 32 := 0#32
  let v818 : BitVec 32 := Scalar.subi v506 c0_i32_428
  let v819 : BitVec 32 := Scalar.maxsi c0_i32_429 v818
  let v820 : BitVec 32 := Scalar.minsi c256_i32_430 v819
  let v1805 : BitVec 32 := Scalar.subi v820 v817
  let c1_i32_1195 : BitVec 32 := 1#32
  let v1807 : BitVec 32 := Scalar.divsi v1805 c1_i32_1195
  let v1808 : BitVec 32 := Scalar.muli v1807 c1_i32_1195
  let v1809 : BitVec 32 := Scalar.addi v817 v1808
  let c1_i32_1197 : BitVec 32 := 1#32
  let arg13 : BitVec 32 := Scf.iv v1809 c1_i32_1197 k3_t44
  let v1840 : Index := Scalar.indexCast arg13
  let c112 : Index := 112#32
  ![v1840.toNat, 112]
@[reducible] def k3_t45_loop (i : grid3.Coords) (v508 : BitVec 32) (v513 : BitVec 32) : Scf.Loop 32 :=
  let c256_i32_434 : BitVec 32 := 256#32
  let c0_i32_433 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let c256_i32_437 : BitVec 32 := 256#32
  let c0_i32_436 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c0_i32_435 : BitVec 32 := 0#32
  let v827 : BitVec 32 := Scalar.subi v516 c0_i32_435
  let v828 : BitVec 32 := Scalar.maxsi c0_i32_436 v827
  let v829 : BitVec 32 := Scalar.minsi c256_i32_437 v828
  let v1805 : BitVec 32 := Scalar.subi v829 v826
  let c1_i32_1195 : BitVec 32 := 1#32
  let v1807 : BitVec 32 := Scalar.divsi v1805 c1_i32_1195
  let v1808 : BitVec 32 := Scalar.muli v1807 c1_i32_1195
  let v1809 : BitVec 32 := Scalar.addi v826 v1808
  let c1_i32_1196 : BitVec 32 := 1#32
  ⟨v826, v1809, c1_i32_1196⟩
def k3_cond23 (i : grid3.Coords) (v508 : BitVec 32) (v513 : BitVec 32) : BitVec 1 :=
  let c256_i32_437 : BitVec 32 := 256#32
  let c0_i32_436 : BitVec 32 := 0#32
  let c1024_i32_223 : BitVec 32 := 1024#32
  let c0_i32_222 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v514 : BitVec 32 := Scalar.subi v513 v3
  let v515 : BitVec 32 := Scalar.maxsi c0_i32_222 v514
  let v516 : BitVec 32 := Scalar.minsi c1024_i32_223 v515
  let c0_i32_435 : BitVec 32 := 0#32
  let v827 : BitVec 32 := Scalar.subi v516 c0_i32_435
  let v828 : BitVec 32 := Scalar.maxsi c0_i32_436 v827
  let v829 : BitVec 32 := Scalar.minsi c256_i32_437 v828
  let c256_i32_434 : BitVec 32 := 256#32
  let c0_i32_433 : BitVec 32 := 0#32
  let c1024_i32_221 : BitVec 32 := 1024#32
  let c0_i32_220 : BitVec 32 := 0#32
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let v830 : BitVec 1 := Scalar.cmpi .sgt v829 v826
  let v831 : BitVec 32 := Scalar.extui v830
  let c0_i32_438 : BitVec 32 := 0#32
  let v832 : BitVec 1 := Scalar.cmpi .ne v831 c0_i32_438
  v832

def k3_off178 (i : grid3.Coords) (v508 : BitVec 32) (v513 : BitVec 32) (k3_t45 : Fin (k3_t45_loop i v508 v513).trips) : Fin 2 → Nat :=
  let c256_i32_434 : BitVec 32 := 256#32
  let c0_i32_433 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let c1_i32_1196 : BitVec 32 := 1#32
  let arg13 : BitVec 32 := Scf.iv v826 c1_i32_1196 k3_t45
  let v1828 : Index := Scalar.indexCast arg13
  let c0_1206 : Index := 0#32
  ![v1828.toNat, 0]
def k3_off179 (i : grid3.Coords) (v508 : BitVec 32) (v513 : BitVec 32) (k3_t45 : Fin (k3_t45_loop i v508 v513).trips) : Fin 2 → Nat :=
  let c256_i32_434 : BitVec 32 := 256#32
  let c0_i32_433 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let c1_i32_1196 : BitVec 32 := 1#32
  let arg13 : BitVec 32 := Scf.iv v826 c1_i32_1196 k3_t45
  let v1832 : Index := Scalar.indexCast arg13
  let c16_1207 : Index := 16#32
  ![v1832.toNat, 16]
def k3_off180 (i : grid3.Coords) (v508 : BitVec 32) (v513 : BitVec 32) (k3_t45 : Fin (k3_t45_loop i v508 v513).trips) : Fin 2 → Nat :=
  let c256_i32_434 : BitVec 32 := 256#32
  let c0_i32_433 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let c1_i32_1196 : BitVec 32 := 1#32
  let arg13 : BitVec 32 := Scf.iv v826 c1_i32_1196 k3_t45
  let v1836 : Index := Scalar.indexCast arg13
  let c32_1208 : Index := 32#32
  ![v1836.toNat, 32]
def k3_off181 (i : grid3.Coords) (v508 : BitVec 32) (v513 : BitVec 32) (k3_t45 : Fin (k3_t45_loop i v508 v513).trips) : Fin 2 → Nat :=
  let c256_i32_434 : BitVec 32 := 256#32
  let c0_i32_433 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let c1_i32_1196 : BitVec 32 := 1#32
  let arg13 : BitVec 32 := Scf.iv v826 c1_i32_1196 k3_t45
  let v1840 : Index := Scalar.indexCast arg13
  let c48_1209 : Index := 48#32
  ![v1840.toNat, 48]
@[reducible] def k3_t46_loop (i : grid3.Coords) (v508 : BitVec 32) (v513 : BitVec 32) : Scf.Loop 32 :=
  let c256_i32_434 : BitVec 32 := 256#32
  let c0_i32_433 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let c256_i32_437 : BitVec 32 := 256#32
  let c0_i32_436 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c0_i32_435 : BitVec 32 := 0#32
  let v827 : BitVec 32 := Scalar.subi v516 c0_i32_435
  let v828 : BitVec 32 := Scalar.maxsi c0_i32_436 v827
  let v829 : BitVec 32 := Scalar.minsi c256_i32_437 v828
  let v1805 : BitVec 32 := Scalar.subi v829 v826
  let c1_i32_1195 : BitVec 32 := 1#32
  let v1807 : BitVec 32 := Scalar.divsi v1805 c1_i32_1195
  let v1808 : BitVec 32 := Scalar.muli v1807 c1_i32_1195
  let v1809 : BitVec 32 := Scalar.addi v826 v1808
  let v1806 : BitVec 32 := Scalar.addi v826 v1805
  let c1_i32_1197 : BitVec 32 := 1#32
  ⟨v1809, v1806, c1_i32_1197⟩
def k3_off182 (i : grid3.Coords) (v508 : BitVec 32) (v513 : BitVec 32) (k3_t46 : Fin (k3_t46_loop i v508 v513).trips) : Fin 2 → Nat :=
  let c256_i32_434 : BitVec 32 := 256#32
  let c0_i32_433 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let c256_i32_437 : BitVec 32 := 256#32
  let c0_i32_436 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c0_i32_435 : BitVec 32 := 0#32
  let v827 : BitVec 32 := Scalar.subi v516 c0_i32_435
  let v828 : BitVec 32 := Scalar.maxsi c0_i32_436 v827
  let v829 : BitVec 32 := Scalar.minsi c256_i32_437 v828
  let v1805 : BitVec 32 := Scalar.subi v829 v826
  let c1_i32_1195 : BitVec 32 := 1#32
  let v1807 : BitVec 32 := Scalar.divsi v1805 c1_i32_1195
  let v1808 : BitVec 32 := Scalar.muli v1807 c1_i32_1195
  let v1809 : BitVec 32 := Scalar.addi v826 v1808
  let c1_i32_1197 : BitVec 32 := 1#32
  let arg13 : BitVec 32 := Scf.iv v1809 c1_i32_1197 k3_t46
  let v1828 : Index := Scalar.indexCast arg13
  let c0_1206 : Index := 0#32
  ![v1828.toNat, 0]
def k3_off183 (i : grid3.Coords) (v508 : BitVec 32) (v513 : BitVec 32) (k3_t46 : Fin (k3_t46_loop i v508 v513).trips) : Fin 2 → Nat :=
  let c256_i32_434 : BitVec 32 := 256#32
  let c0_i32_433 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let c256_i32_437 : BitVec 32 := 256#32
  let c0_i32_436 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c0_i32_435 : BitVec 32 := 0#32
  let v827 : BitVec 32 := Scalar.subi v516 c0_i32_435
  let v828 : BitVec 32 := Scalar.maxsi c0_i32_436 v827
  let v829 : BitVec 32 := Scalar.minsi c256_i32_437 v828
  let v1805 : BitVec 32 := Scalar.subi v829 v826
  let c1_i32_1195 : BitVec 32 := 1#32
  let v1807 : BitVec 32 := Scalar.divsi v1805 c1_i32_1195
  let v1808 : BitVec 32 := Scalar.muli v1807 c1_i32_1195
  let v1809 : BitVec 32 := Scalar.addi v826 v1808
  let c1_i32_1197 : BitVec 32 := 1#32
  let arg13 : BitVec 32 := Scf.iv v1809 c1_i32_1197 k3_t46
  let v1832 : Index := Scalar.indexCast arg13
  let c16_1207 : Index := 16#32
  ![v1832.toNat, 16]
def k3_off184 (i : grid3.Coords) (v508 : BitVec 32) (v513 : BitVec 32) (k3_t46 : Fin (k3_t46_loop i v508 v513).trips) : Fin 2 → Nat :=
  let c256_i32_434 : BitVec 32 := 256#32
  let c0_i32_433 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let c256_i32_437 : BitVec 32 := 256#32
  let c0_i32_436 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c0_i32_435 : BitVec 32 := 0#32
  let v827 : BitVec 32 := Scalar.subi v516 c0_i32_435
  let v828 : BitVec 32 := Scalar.maxsi c0_i32_436 v827
  let v829 : BitVec 32 := Scalar.minsi c256_i32_437 v828
  let v1805 : BitVec 32 := Scalar.subi v829 v826
  let c1_i32_1195 : BitVec 32 := 1#32
  let v1807 : BitVec 32 := Scalar.divsi v1805 c1_i32_1195
  let v1808 : BitVec 32 := Scalar.muli v1807 c1_i32_1195
  let v1809 : BitVec 32 := Scalar.addi v826 v1808
  let c1_i32_1197 : BitVec 32 := 1#32
  let arg13 : BitVec 32 := Scf.iv v1809 c1_i32_1197 k3_t46
  let v1836 : Index := Scalar.indexCast arg13
  let c32_1208 : Index := 32#32
  ![v1836.toNat, 32]
def k3_off185 (i : grid3.Coords) (v508 : BitVec 32) (v513 : BitVec 32) (k3_t46 : Fin (k3_t46_loop i v508 v513).trips) : Fin 2 → Nat :=
  let c256_i32_434 : BitVec 32 := 256#32
  let c0_i32_433 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c0_i32_432 : BitVec 32 := 0#32
  let v824 : BitVec 32 := Scalar.subi v511 c0_i32_432
  let v825 : BitVec 32 := Scalar.maxsi c0_i32_433 v824
  let v826 : BitVec 32 := Scalar.minsi c256_i32_434 v825
  let c256_i32_437 : BitVec 32 := 256#32
  let c0_i32_436 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c0_i32_435 : BitVec 32 := 0#32
  let v827 : BitVec 32 := Scalar.subi v516 c0_i32_435
  let v828 : BitVec 32 := Scalar.maxsi c0_i32_436 v827
  let v829 : BitVec 32 := Scalar.minsi c256_i32_437 v828
  let v1805 : BitVec 32 := Scalar.subi v829 v826
  let c1_i32_1195 : BitVec 32 := 1#32
  let v1807 : BitVec 32 := Scalar.divsi v1805 c1_i32_1195
  let v1808 : BitVec 32 := Scalar.muli v1807 c1_i32_1195
  let v1809 : BitVec 32 := Scalar.addi v826 v1808
  let c1_i32_1197 : BitVec 32 := 1#32
  let arg13 : BitVec 32 := Scf.iv v1809 c1_i32_1197 k3_t46
  let v1840 : Index := Scalar.indexCast arg13
  let c48_1209 : Index := 48#32
  ![v1840.toNat, 48]
@[reducible] def k3_t47_loop (i : grid3.Coords) (v518 : BitVec 32) (v524 : BitVec 32) : Scf.Loop 32 :=
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let c256_i32_444 : BitVec 32 := 256#32
  let c0_i32_443 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c0_i32_442 : BitVec 32 := 0#32
  let v836 : BitVec 32 := Scalar.subi v528 c0_i32_442
  let v837 : BitVec 32 := Scalar.maxsi c0_i32_443 v836
  let v838 : BitVec 32 := Scalar.minsi c256_i32_444 v837
  let v1805 : BitVec 32 := Scalar.subi v838 v835
  let c1_i32_1195 : BitVec 32 := 1#32
  let v1807 : BitVec 32 := Scalar.divsi v1805 c1_i32_1195
  let v1808 : BitVec 32 := Scalar.muli v1807 c1_i32_1195
  let v1809 : BitVec 32 := Scalar.addi v835 v1808
  let c1_i32_1196 : BitVec 32 := 1#32
  ⟨v835, v1809, c1_i32_1196⟩
def k3_cond24 (i : grid3.Coords) (v518 : BitVec 32) (v524 : BitVec 32) : BitVec 1 :=
  let c256_i32_444 : BitVec 32 := 256#32
  let c0_i32_443 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v526 : BitVec 32 := Scalar.subi v525 v3
  let v527 : BitVec 32 := Scalar.maxsi c0_i32_228 v526
  let v528 : BitVec 32 := Scalar.minsi c1024_i32_229 v527
  let c0_i32_442 : BitVec 32 := 0#32
  let v836 : BitVec 32 := Scalar.subi v528 c0_i32_442
  let v837 : BitVec 32 := Scalar.maxsi c0_i32_443 v836
  let v838 : BitVec 32 := Scalar.minsi c256_i32_444 v837
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let v839 : BitVec 1 := Scalar.cmpi .sgt v838 v835
  let v840 : BitVec 32 := Scalar.extui v839
  let c0_i32_445 : BitVec 32 := 0#32
  let v841 : BitVec 1 := Scalar.cmpi .ne v840 c0_i32_445
  v841

def k3_off186 (i : grid3.Coords) (v518 : BitVec 32) (v524 : BitVec 32) (k3_t47 : Fin (k3_t47_loop i v518 v524).trips) : Fin 2 → Nat :=
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let c1_i32_1196 : BitVec 32 := 1#32
  let arg13 : BitVec 32 := Scf.iv v835 c1_i32_1196 k3_t47
  let v1828 : Index := Scalar.indexCast arg13
  let c64 : Index := 64#32
  ![v1828.toNat, 64]
def k3_off187 (i : grid3.Coords) (v518 : BitVec 32) (v524 : BitVec 32) (k3_t47 : Fin (k3_t47_loop i v518 v524).trips) : Fin 2 → Nat :=
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let c1_i32_1196 : BitVec 32 := 1#32
  let arg13 : BitVec 32 := Scf.iv v835 c1_i32_1196 k3_t47
  let v1832 : Index := Scalar.indexCast arg13
  let c80 : Index := 80#32
  ![v1832.toNat, 80]
def k3_off188 (i : grid3.Coords) (v518 : BitVec 32) (v524 : BitVec 32) (k3_t47 : Fin (k3_t47_loop i v518 v524).trips) : Fin 2 → Nat :=
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let c1_i32_1196 : BitVec 32 := 1#32
  let arg13 : BitVec 32 := Scf.iv v835 c1_i32_1196 k3_t47
  let v1836 : Index := Scalar.indexCast arg13
  let c96 : Index := 96#32
  ![v1836.toNat, 96]
def k3_off189 (i : grid3.Coords) (v518 : BitVec 32) (v524 : BitVec 32) (k3_t47 : Fin (k3_t47_loop i v518 v524).trips) : Fin 2 → Nat :=
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let c1_i32_1196 : BitVec 32 := 1#32
  let arg13 : BitVec 32 := Scf.iv v835 c1_i32_1196 k3_t47
  let v1840 : Index := Scalar.indexCast arg13
  let c112 : Index := 112#32
  ![v1840.toNat, 112]
@[reducible] def k3_t48_loop (i : grid3.Coords) (v518 : BitVec 32) (v524 : BitVec 32) : Scf.Loop 32 :=
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let c256_i32_444 : BitVec 32 := 256#32
  let c0_i32_443 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c0_i32_442 : BitVec 32 := 0#32
  let v836 : BitVec 32 := Scalar.subi v528 c0_i32_442
  let v837 : BitVec 32 := Scalar.maxsi c0_i32_443 v836
  let v838 : BitVec 32 := Scalar.minsi c256_i32_444 v837
  let v1805 : BitVec 32 := Scalar.subi v838 v835
  let c1_i32_1195 : BitVec 32 := 1#32
  let v1807 : BitVec 32 := Scalar.divsi v1805 c1_i32_1195
  let v1808 : BitVec 32 := Scalar.muli v1807 c1_i32_1195
  let v1809 : BitVec 32 := Scalar.addi v835 v1808
  let v1806 : BitVec 32 := Scalar.addi v835 v1805
  let c1_i32_1197 : BitVec 32 := 1#32
  ⟨v1809, v1806, c1_i32_1197⟩
def k3_off190 (i : grid3.Coords) (v518 : BitVec 32) (v524 : BitVec 32) (k3_t48 : Fin (k3_t48_loop i v518 v524).trips) : Fin 2 → Nat :=
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let c256_i32_444 : BitVec 32 := 256#32
  let c0_i32_443 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c0_i32_442 : BitVec 32 := 0#32
  let v836 : BitVec 32 := Scalar.subi v528 c0_i32_442
  let v837 : BitVec 32 := Scalar.maxsi c0_i32_443 v836
  let v838 : BitVec 32 := Scalar.minsi c256_i32_444 v837
  let v1805 : BitVec 32 := Scalar.subi v838 v835
  let c1_i32_1195 : BitVec 32 := 1#32
  let v1807 : BitVec 32 := Scalar.divsi v1805 c1_i32_1195
  let v1808 : BitVec 32 := Scalar.muli v1807 c1_i32_1195
  let v1809 : BitVec 32 := Scalar.addi v835 v1808
  let c1_i32_1197 : BitVec 32 := 1#32
  let arg13 : BitVec 32 := Scf.iv v1809 c1_i32_1197 k3_t48
  let v1828 : Index := Scalar.indexCast arg13
  let c64 : Index := 64#32
  ![v1828.toNat, 64]
def k3_off191 (i : grid3.Coords) (v518 : BitVec 32) (v524 : BitVec 32) (k3_t48 : Fin (k3_t48_loop i v518 v524).trips) : Fin 2 → Nat :=
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let c256_i32_444 : BitVec 32 := 256#32
  let c0_i32_443 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c0_i32_442 : BitVec 32 := 0#32
  let v836 : BitVec 32 := Scalar.subi v528 c0_i32_442
  let v837 : BitVec 32 := Scalar.maxsi c0_i32_443 v836
  let v838 : BitVec 32 := Scalar.minsi c256_i32_444 v837
  let v1805 : BitVec 32 := Scalar.subi v838 v835
  let c1_i32_1195 : BitVec 32 := 1#32
  let v1807 : BitVec 32 := Scalar.divsi v1805 c1_i32_1195
  let v1808 : BitVec 32 := Scalar.muli v1807 c1_i32_1195
  let v1809 : BitVec 32 := Scalar.addi v835 v1808
  let c1_i32_1197 : BitVec 32 := 1#32
  let arg13 : BitVec 32 := Scf.iv v1809 c1_i32_1197 k3_t48
  let v1832 : Index := Scalar.indexCast arg13
  let c80 : Index := 80#32
  ![v1832.toNat, 80]
def k3_off192 (i : grid3.Coords) (v518 : BitVec 32) (v524 : BitVec 32) (k3_t48 : Fin (k3_t48_loop i v518 v524).trips) : Fin 2 → Nat :=
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let c256_i32_444 : BitVec 32 := 256#32
  let c0_i32_443 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c0_i32_442 : BitVec 32 := 0#32
  let v836 : BitVec 32 := Scalar.subi v528 c0_i32_442
  let v837 : BitVec 32 := Scalar.maxsi c0_i32_443 v836
  let v838 : BitVec 32 := Scalar.minsi c256_i32_444 v837
  let v1805 : BitVec 32 := Scalar.subi v838 v835
  let c1_i32_1195 : BitVec 32 := 1#32
  let v1807 : BitVec 32 := Scalar.divsi v1805 c1_i32_1195
  let v1808 : BitVec 32 := Scalar.muli v1807 c1_i32_1195
  let v1809 : BitVec 32 := Scalar.addi v835 v1808
  let c1_i32_1197 : BitVec 32 := 1#32
  let arg13 : BitVec 32 := Scf.iv v1809 c1_i32_1197 k3_t48
  let v1836 : Index := Scalar.indexCast arg13
  let c96 : Index := 96#32
  ![v1836.toNat, 96]
def k3_off193 (i : grid3.Coords) (v518 : BitVec 32) (v524 : BitVec 32) (k3_t48 : Fin (k3_t48_loop i v518 v524).trips) : Fin 2 → Nat :=
  let c256_i32_441 : BitVec 32 := 256#32
  let c0_i32_440 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c0_i32_439 : BitVec 32 := 0#32
  let v833 : BitVec 32 := Scalar.subi v522 c0_i32_439
  let v834 : BitVec 32 := Scalar.maxsi c0_i32_440 v833
  let v835 : BitVec 32 := Scalar.minsi c256_i32_441 v834
  let c256_i32_444 : BitVec 32 := 256#32
  let c0_i32_443 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c0_i32_442 : BitVec 32 := 0#32
  let v836 : BitVec 32 := Scalar.subi v528 c0_i32_442
  let v837 : BitVec 32 := Scalar.maxsi c0_i32_443 v836
  let v838 : BitVec 32 := Scalar.minsi c256_i32_444 v837
  let v1805 : BitVec 32 := Scalar.subi v838 v835
  let c1_i32_1195 : BitVec 32 := 1#32
  let v1807 : BitVec 32 := Scalar.divsi v1805 c1_i32_1195
  let v1808 : BitVec 32 := Scalar.muli v1807 c1_i32_1195
  let v1809 : BitVec 32 := Scalar.addi v835 v1808
  let c1_i32_1197 : BitVec 32 := 1#32
  let arg13 : BitVec 32 := Scf.iv v1809 c1_i32_1197 k3_t48
  let v1840 : Index := Scalar.indexCast arg13
  let c112 : Index := 112#32
  ![v1840.toNat, 112]
@[reducible] def k3_t49_loop (i : grid3.Coords) (v530 : BitVec 32) (v535 : BitVec 32) : Scf.Loop 32 :=
  let c256_i32_448 : BitVec 32 := 256#32
  let c0_i32_447 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let c256_i32_451 : BitVec 32 := 256#32
  let c0_i32_450 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c0_i32_449 : BitVec 32 := 0#32
  let v845 : BitVec 32 := Scalar.subi v538 c0_i32_449
  let v846 : BitVec 32 := Scalar.maxsi c0_i32_450 v845
  let v847 : BitVec 32 := Scalar.minsi c256_i32_451 v846
  let v1805 : BitVec 32 := Scalar.subi v847 v844
  let c1_i32_1195 : BitVec 32 := 1#32
  let v1807 : BitVec 32 := Scalar.divsi v1805 c1_i32_1195
  let v1808 : BitVec 32 := Scalar.muli v1807 c1_i32_1195
  let v1809 : BitVec 32 := Scalar.addi v844 v1808
  let c1_i32_1196 : BitVec 32 := 1#32
  ⟨v844, v1809, c1_i32_1196⟩
def k3_cond25 (i : grid3.Coords) (v530 : BitVec 32) (v535 : BitVec 32) : BitVec 1 :=
  let c256_i32_451 : BitVec 32 := 256#32
  let c0_i32_450 : BitVec 32 := 0#32
  let c1024_i32_233 : BitVec 32 := 1024#32
  let c0_i32_232 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v536 : BitVec 32 := Scalar.subi v535 v3
  let v537 : BitVec 32 := Scalar.maxsi c0_i32_232 v536
  let v538 : BitVec 32 := Scalar.minsi c1024_i32_233 v537
  let c0_i32_449 : BitVec 32 := 0#32
  let v845 : BitVec 32 := Scalar.subi v538 c0_i32_449
  let v846 : BitVec 32 := Scalar.maxsi c0_i32_450 v845
  let v847 : BitVec 32 := Scalar.minsi c256_i32_451 v846
  let c256_i32_448 : BitVec 32 := 256#32
  let c0_i32_447 : BitVec 32 := 0#32
  let c1024_i32_231 : BitVec 32 := 1024#32
  let c0_i32_230 : BitVec 32 := 0#32
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let v848 : BitVec 1 := Scalar.cmpi .sgt v847 v844
  let v849 : BitVec 32 := Scalar.extui v848
  let c0_i32_452 : BitVec 32 := 0#32
  let v850 : BitVec 1 := Scalar.cmpi .ne v849 c0_i32_452
  v850

def k3_off194 (i : grid3.Coords) (v530 : BitVec 32) (v535 : BitVec 32) (k3_t49 : Fin (k3_t49_loop i v530 v535).trips) : Fin 2 → Nat :=
  let c256_i32_448 : BitVec 32 := 256#32
  let c0_i32_447 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let c1_i32_1196 : BitVec 32 := 1#32
  let arg13 : BitVec 32 := Scf.iv v844 c1_i32_1196 k3_t49
  let v1828 : Index := Scalar.indexCast arg13
  let c0_1206 : Index := 0#32
  ![v1828.toNat, 0]
def k3_off195 (i : grid3.Coords) (v530 : BitVec 32) (v535 : BitVec 32) (k3_t49 : Fin (k3_t49_loop i v530 v535).trips) : Fin 2 → Nat :=
  let c256_i32_448 : BitVec 32 := 256#32
  let c0_i32_447 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let c1_i32_1196 : BitVec 32 := 1#32
  let arg13 : BitVec 32 := Scf.iv v844 c1_i32_1196 k3_t49
  let v1832 : Index := Scalar.indexCast arg13
  let c16_1207 : Index := 16#32
  ![v1832.toNat, 16]
def k3_off196 (i : grid3.Coords) (v530 : BitVec 32) (v535 : BitVec 32) (k3_t49 : Fin (k3_t49_loop i v530 v535).trips) : Fin 2 → Nat :=
  let c256_i32_448 : BitVec 32 := 256#32
  let c0_i32_447 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let c1_i32_1196 : BitVec 32 := 1#32
  let arg13 : BitVec 32 := Scf.iv v844 c1_i32_1196 k3_t49
  let v1836 : Index := Scalar.indexCast arg13
  let c32_1208 : Index := 32#32
  ![v1836.toNat, 32]
def k3_off197 (i : grid3.Coords) (v530 : BitVec 32) (v535 : BitVec 32) (k3_t49 : Fin (k3_t49_loop i v530 v535).trips) : Fin 2 → Nat :=
  let c256_i32_448 : BitVec 32 := 256#32
  let c0_i32_447 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let c1_i32_1196 : BitVec 32 := 1#32
  let arg13 : BitVec 32 := Scf.iv v844 c1_i32_1196 k3_t49
  let v1840 : Index := Scalar.indexCast arg13
  let c48_1209 : Index := 48#32
  ![v1840.toNat, 48]
@[reducible] def k3_t50_loop (i : grid3.Coords) (v530 : BitVec 32) (v535 : BitVec 32) : Scf.Loop 32 :=
  let c256_i32_448 : BitVec 32 := 256#32
  let c0_i32_447 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let c256_i32_451 : BitVec 32 := 256#32
  let c0_i32_450 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c0_i32_449 : BitVec 32 := 0#32
  let v845 : BitVec 32 := Scalar.subi v538 c0_i32_449
  let v846 : BitVec 32 := Scalar.maxsi c0_i32_450 v845
  let v847 : BitVec 32 := Scalar.minsi c256_i32_451 v846
  let v1805 : BitVec 32 := Scalar.subi v847 v844
  let c1_i32_1195 : BitVec 32 := 1#32
  let v1807 : BitVec 32 := Scalar.divsi v1805 c1_i32_1195
  let v1808 : BitVec 32 := Scalar.muli v1807 c1_i32_1195
  let v1809 : BitVec 32 := Scalar.addi v844 v1808
  let v1806 : BitVec 32 := Scalar.addi v844 v1805
  let c1_i32_1197 : BitVec 32 := 1#32
  ⟨v1809, v1806, c1_i32_1197⟩
def k3_off198 (i : grid3.Coords) (v530 : BitVec 32) (v535 : BitVec 32) (k3_t50 : Fin (k3_t50_loop i v530 v535).trips) : Fin 2 → Nat :=
  let c256_i32_448 : BitVec 32 := 256#32
  let c0_i32_447 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let c256_i32_451 : BitVec 32 := 256#32
  let c0_i32_450 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c0_i32_449 : BitVec 32 := 0#32
  let v845 : BitVec 32 := Scalar.subi v538 c0_i32_449
  let v846 : BitVec 32 := Scalar.maxsi c0_i32_450 v845
  let v847 : BitVec 32 := Scalar.minsi c256_i32_451 v846
  let v1805 : BitVec 32 := Scalar.subi v847 v844
  let c1_i32_1195 : BitVec 32 := 1#32
  let v1807 : BitVec 32 := Scalar.divsi v1805 c1_i32_1195
  let v1808 : BitVec 32 := Scalar.muli v1807 c1_i32_1195
  let v1809 : BitVec 32 := Scalar.addi v844 v1808
  let c1_i32_1197 : BitVec 32 := 1#32
  let arg13 : BitVec 32 := Scf.iv v1809 c1_i32_1197 k3_t50
  let v1828 : Index := Scalar.indexCast arg13
  let c0_1206 : Index := 0#32
  ![v1828.toNat, 0]
def k3_off199 (i : grid3.Coords) (v530 : BitVec 32) (v535 : BitVec 32) (k3_t50 : Fin (k3_t50_loop i v530 v535).trips) : Fin 2 → Nat :=
  let c256_i32_448 : BitVec 32 := 256#32
  let c0_i32_447 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let c256_i32_451 : BitVec 32 := 256#32
  let c0_i32_450 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c0_i32_449 : BitVec 32 := 0#32
  let v845 : BitVec 32 := Scalar.subi v538 c0_i32_449
  let v846 : BitVec 32 := Scalar.maxsi c0_i32_450 v845
  let v847 : BitVec 32 := Scalar.minsi c256_i32_451 v846
  let v1805 : BitVec 32 := Scalar.subi v847 v844
  let c1_i32_1195 : BitVec 32 := 1#32
  let v1807 : BitVec 32 := Scalar.divsi v1805 c1_i32_1195
  let v1808 : BitVec 32 := Scalar.muli v1807 c1_i32_1195
  let v1809 : BitVec 32 := Scalar.addi v844 v1808
  let c1_i32_1197 : BitVec 32 := 1#32
  let arg13 : BitVec 32 := Scf.iv v1809 c1_i32_1197 k3_t50
  let v1832 : Index := Scalar.indexCast arg13
  let c16_1207 : Index := 16#32
  ![v1832.toNat, 16]
def k3_off200 (i : grid3.Coords) (v530 : BitVec 32) (v535 : BitVec 32) (k3_t50 : Fin (k3_t50_loop i v530 v535).trips) : Fin 2 → Nat :=
  let c256_i32_448 : BitVec 32 := 256#32
  let c0_i32_447 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let c256_i32_451 : BitVec 32 := 256#32
  let c0_i32_450 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c0_i32_449 : BitVec 32 := 0#32
  let v845 : BitVec 32 := Scalar.subi v538 c0_i32_449
  let v846 : BitVec 32 := Scalar.maxsi c0_i32_450 v845
  let v847 : BitVec 32 := Scalar.minsi c256_i32_451 v846
  let v1805 : BitVec 32 := Scalar.subi v847 v844
  let c1_i32_1195 : BitVec 32 := 1#32
  let v1807 : BitVec 32 := Scalar.divsi v1805 c1_i32_1195
  let v1808 : BitVec 32 := Scalar.muli v1807 c1_i32_1195
  let v1809 : BitVec 32 := Scalar.addi v844 v1808
  let c1_i32_1197 : BitVec 32 := 1#32
  let arg13 : BitVec 32 := Scf.iv v1809 c1_i32_1197 k3_t50
  let v1836 : Index := Scalar.indexCast arg13
  let c32_1208 : Index := 32#32
  ![v1836.toNat, 32]
def k3_off201 (i : grid3.Coords) (v530 : BitVec 32) (v535 : BitVec 32) (k3_t50 : Fin (k3_t50_loop i v530 v535).trips) : Fin 2 → Nat :=
  let c256_i32_448 : BitVec 32 := 256#32
  let c0_i32_447 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c0_i32_446 : BitVec 32 := 0#32
  let v842 : BitVec 32 := Scalar.subi v533 c0_i32_446
  let v843 : BitVec 32 := Scalar.maxsi c0_i32_447 v842
  let v844 : BitVec 32 := Scalar.minsi c256_i32_448 v843
  let c256_i32_451 : BitVec 32 := 256#32
  let c0_i32_450 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c0_i32_449 : BitVec 32 := 0#32
  let v845 : BitVec 32 := Scalar.subi v538 c0_i32_449
  let v846 : BitVec 32 := Scalar.maxsi c0_i32_450 v845
  let v847 : BitVec 32 := Scalar.minsi c256_i32_451 v846
  let v1805 : BitVec 32 := Scalar.subi v847 v844
  let c1_i32_1195 : BitVec 32 := 1#32
  let v1807 : BitVec 32 := Scalar.divsi v1805 c1_i32_1195
  let v1808 : BitVec 32 := Scalar.muli v1807 c1_i32_1195
  let v1809 : BitVec 32 := Scalar.addi v844 v1808
  let c1_i32_1197 : BitVec 32 := 1#32
  let arg13 : BitVec 32 := Scf.iv v1809 c1_i32_1197 k3_t50
  let v1840 : Index := Scalar.indexCast arg13
  let c48_1209 : Index := 48#32
  ![v1840.toNat, 48]
@[reducible] def k3_t51_loop (i : grid3.Coords) (v540 : BitVec 32) (v546 : BitVec 32) : Scf.Loop 32 :=
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let c256_i32_458 : BitVec 32 := 256#32
  let c0_i32_457 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c0_i32_456 : BitVec 32 := 0#32
  let v854 : BitVec 32 := Scalar.subi v550 c0_i32_456
  let v855 : BitVec 32 := Scalar.maxsi c0_i32_457 v854
  let v856 : BitVec 32 := Scalar.minsi c256_i32_458 v855
  let v1805 : BitVec 32 := Scalar.subi v856 v853
  let c1_i32_1195 : BitVec 32 := 1#32
  let v1807 : BitVec 32 := Scalar.divsi v1805 c1_i32_1195
  let v1808 : BitVec 32 := Scalar.muli v1807 c1_i32_1195
  let v1809 : BitVec 32 := Scalar.addi v853 v1808
  let c1_i32_1196 : BitVec 32 := 1#32
  ⟨v853, v1809, c1_i32_1196⟩
def k3_cond26 (i : grid3.Coords) (v540 : BitVec 32) (v546 : BitVec 32) : BitVec 1 :=
  let c256_i32_458 : BitVec 32 := 256#32
  let c0_i32_457 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v548 : BitVec 32 := Scalar.subi v547 v3
  let v549 : BitVec 32 := Scalar.maxsi c0_i32_238 v548
  let v550 : BitVec 32 := Scalar.minsi c1024_i32_239 v549
  let c0_i32_456 : BitVec 32 := 0#32
  let v854 : BitVec 32 := Scalar.subi v550 c0_i32_456
  let v855 : BitVec 32 := Scalar.maxsi c0_i32_457 v854
  let v856 : BitVec 32 := Scalar.minsi c256_i32_458 v855
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let v857 : BitVec 1 := Scalar.cmpi .sgt v856 v853
  let v858 : BitVec 32 := Scalar.extui v857
  let c0_i32_459 : BitVec 32 := 0#32
  let v859 : BitVec 1 := Scalar.cmpi .ne v858 c0_i32_459
  v859

def k3_off202 (i : grid3.Coords) (v540 : BitVec 32) (v546 : BitVec 32) (k3_t51 : Fin (k3_t51_loop i v540 v546).trips) : Fin 2 → Nat :=
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let c1_i32_1196 : BitVec 32 := 1#32
  let arg13 : BitVec 32 := Scf.iv v853 c1_i32_1196 k3_t51
  let v1828 : Index := Scalar.indexCast arg13
  let c64 : Index := 64#32
  ![v1828.toNat, 64]
def k3_off203 (i : grid3.Coords) (v540 : BitVec 32) (v546 : BitVec 32) (k3_t51 : Fin (k3_t51_loop i v540 v546).trips) : Fin 2 → Nat :=
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let c1_i32_1196 : BitVec 32 := 1#32
  let arg13 : BitVec 32 := Scf.iv v853 c1_i32_1196 k3_t51
  let v1832 : Index := Scalar.indexCast arg13
  let c80 : Index := 80#32
  ![v1832.toNat, 80]
def k3_off204 (i : grid3.Coords) (v540 : BitVec 32) (v546 : BitVec 32) (k3_t51 : Fin (k3_t51_loop i v540 v546).trips) : Fin 2 → Nat :=
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let c1_i32_1196 : BitVec 32 := 1#32
  let arg13 : BitVec 32 := Scf.iv v853 c1_i32_1196 k3_t51
  let v1836 : Index := Scalar.indexCast arg13
  let c96 : Index := 96#32
  ![v1836.toNat, 96]
def k3_off205 (i : grid3.Coords) (v540 : BitVec 32) (v546 : BitVec 32) (k3_t51 : Fin (k3_t51_loop i v540 v546).trips) : Fin 2 → Nat :=
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let c1_i32_1196 : BitVec 32 := 1#32
  let arg13 : BitVec 32 := Scf.iv v853 c1_i32_1196 k3_t51
  let v1840 : Index := Scalar.indexCast arg13
  let c112 : Index := 112#32
  ![v1840.toNat, 112]
@[reducible] def k3_t52_loop (i : grid3.Coords) (v540 : BitVec 32) (v546 : BitVec 32) : Scf.Loop 32 :=
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let c256_i32_458 : BitVec 32 := 256#32
  let c0_i32_457 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c0_i32_456 : BitVec 32 := 0#32
  let v854 : BitVec 32 := Scalar.subi v550 c0_i32_456
  let v855 : BitVec 32 := Scalar.maxsi c0_i32_457 v854
  let v856 : BitVec 32 := Scalar.minsi c256_i32_458 v855
  let v1805 : BitVec 32 := Scalar.subi v856 v853
  let c1_i32_1195 : BitVec 32 := 1#32
  let v1807 : BitVec 32 := Scalar.divsi v1805 c1_i32_1195
  let v1808 : BitVec 32 := Scalar.muli v1807 c1_i32_1195
  let v1809 : BitVec 32 := Scalar.addi v853 v1808
  let v1806 : BitVec 32 := Scalar.addi v853 v1805
  let c1_i32_1197 : BitVec 32 := 1#32
  ⟨v1809, v1806, c1_i32_1197⟩
def k3_off206 (i : grid3.Coords) (v540 : BitVec 32) (v546 : BitVec 32) (k3_t52 : Fin (k3_t52_loop i v540 v546).trips) : Fin 2 → Nat :=
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let c256_i32_458 : BitVec 32 := 256#32
  let c0_i32_457 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c0_i32_456 : BitVec 32 := 0#32
  let v854 : BitVec 32 := Scalar.subi v550 c0_i32_456
  let v855 : BitVec 32 := Scalar.maxsi c0_i32_457 v854
  let v856 : BitVec 32 := Scalar.minsi c256_i32_458 v855
  let v1805 : BitVec 32 := Scalar.subi v856 v853
  let c1_i32_1195 : BitVec 32 := 1#32
  let v1807 : BitVec 32 := Scalar.divsi v1805 c1_i32_1195
  let v1808 : BitVec 32 := Scalar.muli v1807 c1_i32_1195
  let v1809 : BitVec 32 := Scalar.addi v853 v1808
  let c1_i32_1197 : BitVec 32 := 1#32
  let arg13 : BitVec 32 := Scf.iv v1809 c1_i32_1197 k3_t52
  let v1828 : Index := Scalar.indexCast arg13
  let c64 : Index := 64#32
  ![v1828.toNat, 64]
def k3_off207 (i : grid3.Coords) (v540 : BitVec 32) (v546 : BitVec 32) (k3_t52 : Fin (k3_t52_loop i v540 v546).trips) : Fin 2 → Nat :=
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let c256_i32_458 : BitVec 32 := 256#32
  let c0_i32_457 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c0_i32_456 : BitVec 32 := 0#32
  let v854 : BitVec 32 := Scalar.subi v550 c0_i32_456
  let v855 : BitVec 32 := Scalar.maxsi c0_i32_457 v854
  let v856 : BitVec 32 := Scalar.minsi c256_i32_458 v855
  let v1805 : BitVec 32 := Scalar.subi v856 v853
  let c1_i32_1195 : BitVec 32 := 1#32
  let v1807 : BitVec 32 := Scalar.divsi v1805 c1_i32_1195
  let v1808 : BitVec 32 := Scalar.muli v1807 c1_i32_1195
  let v1809 : BitVec 32 := Scalar.addi v853 v1808
  let c1_i32_1197 : BitVec 32 := 1#32
  let arg13 : BitVec 32 := Scf.iv v1809 c1_i32_1197 k3_t52
  let v1832 : Index := Scalar.indexCast arg13
  let c80 : Index := 80#32
  ![v1832.toNat, 80]
def k3_off208 (i : grid3.Coords) (v540 : BitVec 32) (v546 : BitVec 32) (k3_t52 : Fin (k3_t52_loop i v540 v546).trips) : Fin 2 → Nat :=
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let c256_i32_458 : BitVec 32 := 256#32
  let c0_i32_457 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c0_i32_456 : BitVec 32 := 0#32
  let v854 : BitVec 32 := Scalar.subi v550 c0_i32_456
  let v855 : BitVec 32 := Scalar.maxsi c0_i32_457 v854
  let v856 : BitVec 32 := Scalar.minsi c256_i32_458 v855
  let v1805 : BitVec 32 := Scalar.subi v856 v853
  let c1_i32_1195 : BitVec 32 := 1#32
  let v1807 : BitVec 32 := Scalar.divsi v1805 c1_i32_1195
  let v1808 : BitVec 32 := Scalar.muli v1807 c1_i32_1195
  let v1809 : BitVec 32 := Scalar.addi v853 v1808
  let c1_i32_1197 : BitVec 32 := 1#32
  let arg13 : BitVec 32 := Scf.iv v1809 c1_i32_1197 k3_t52
  let v1836 : Index := Scalar.indexCast arg13
  let c96 : Index := 96#32
  ![v1836.toNat, 96]
def k3_off209 (i : grid3.Coords) (v540 : BitVec 32) (v546 : BitVec 32) (k3_t52 : Fin (k3_t52_loop i v540 v546).trips) : Fin 2 → Nat :=
  let c256_i32_455 : BitVec 32 := 256#32
  let c0_i32_454 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c0_i32_453 : BitVec 32 := 0#32
  let v851 : BitVec 32 := Scalar.subi v544 c0_i32_453
  let v852 : BitVec 32 := Scalar.maxsi c0_i32_454 v851
  let v853 : BitVec 32 := Scalar.minsi c256_i32_455 v852
  let c256_i32_458 : BitVec 32 := 256#32
  let c0_i32_457 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c0_i32_456 : BitVec 32 := 0#32
  let v854 : BitVec 32 := Scalar.subi v550 c0_i32_456
  let v855 : BitVec 32 := Scalar.maxsi c0_i32_457 v854
  let v856 : BitVec 32 := Scalar.minsi c256_i32_458 v855
  let v1805 : BitVec 32 := Scalar.subi v856 v853
  let c1_i32_1195 : BitVec 32 := 1#32
  let v1807 : BitVec 32 := Scalar.divsi v1805 c1_i32_1195
  let v1808 : BitVec 32 := Scalar.muli v1807 c1_i32_1195
  let v1809 : BitVec 32 := Scalar.addi v853 v1808
  let c1_i32_1197 : BitVec 32 := 1#32
  let arg13 : BitVec 32 := Scf.iv v1809 c1_i32_1197 k3_t52
  let v1840 : Index := Scalar.indexCast arg13
  let c112 : Index := 112#32
  ![v1840.toNat, 112]
@[reducible] def k3_t53_loop (i : grid3.Coords) (v552 : BitVec 32) (v557 : BitVec 32) : Scf.Loop 32 :=
  let c256_i32_462 : BitVec 32 := 256#32
  let c0_i32_461 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let c256_i32_465 : BitVec 32 := 256#32
  let c0_i32_464 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c0_i32_463 : BitVec 32 := 0#32
  let v863 : BitVec 32 := Scalar.subi v560 c0_i32_463
  let v864 : BitVec 32 := Scalar.maxsi c0_i32_464 v863
  let v865 : BitVec 32 := Scalar.minsi c256_i32_465 v864
  let v1805 : BitVec 32 := Scalar.subi v865 v862
  let c1_i32_1195 : BitVec 32 := 1#32
  let v1807 : BitVec 32 := Scalar.divsi v1805 c1_i32_1195
  let v1808 : BitVec 32 := Scalar.muli v1807 c1_i32_1195
  let v1809 : BitVec 32 := Scalar.addi v862 v1808
  let c1_i32_1196 : BitVec 32 := 1#32
  ⟨v862, v1809, c1_i32_1196⟩
def k3_cond27 (i : grid3.Coords) (v552 : BitVec 32) (v557 : BitVec 32) : BitVec 1 :=
  let c256_i32_465 : BitVec 32 := 256#32
  let c0_i32_464 : BitVec 32 := 0#32
  let c1024_i32_243 : BitVec 32 := 1024#32
  let c0_i32_242 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v558 : BitVec 32 := Scalar.subi v557 v3
  let v559 : BitVec 32 := Scalar.maxsi c0_i32_242 v558
  let v560 : BitVec 32 := Scalar.minsi c1024_i32_243 v559
  let c0_i32_463 : BitVec 32 := 0#32
  let v863 : BitVec 32 := Scalar.subi v560 c0_i32_463
  let v864 : BitVec 32 := Scalar.maxsi c0_i32_464 v863
  let v865 : BitVec 32 := Scalar.minsi c256_i32_465 v864
  let c256_i32_462 : BitVec 32 := 256#32
  let c0_i32_461 : BitVec 32 := 0#32
  let c1024_i32_241 : BitVec 32 := 1024#32
  let c0_i32_240 : BitVec 32 := 0#32
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let v866 : BitVec 1 := Scalar.cmpi .sgt v865 v862
  let v867 : BitVec 32 := Scalar.extui v866
  let c0_i32_466 : BitVec 32 := 0#32
  let v868 : BitVec 1 := Scalar.cmpi .ne v867 c0_i32_466
  v868

def k3_off210 (i : grid3.Coords) (v552 : BitVec 32) (v557 : BitVec 32) (k3_t53 : Fin (k3_t53_loop i v552 v557).trips) : Fin 2 → Nat :=
  let c256_i32_462 : BitVec 32 := 256#32
  let c0_i32_461 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let c1_i32_1196 : BitVec 32 := 1#32
  let arg13 : BitVec 32 := Scf.iv v862 c1_i32_1196 k3_t53
  let v1828 : Index := Scalar.indexCast arg13
  let c0_1206 : Index := 0#32
  ![v1828.toNat, 0]
def k3_off211 (i : grid3.Coords) (v552 : BitVec 32) (v557 : BitVec 32) (k3_t53 : Fin (k3_t53_loop i v552 v557).trips) : Fin 2 → Nat :=
  let c256_i32_462 : BitVec 32 := 256#32
  let c0_i32_461 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let c1_i32_1196 : BitVec 32 := 1#32
  let arg13 : BitVec 32 := Scf.iv v862 c1_i32_1196 k3_t53
  let v1832 : Index := Scalar.indexCast arg13
  let c16_1207 : Index := 16#32
  ![v1832.toNat, 16]
def k3_off212 (i : grid3.Coords) (v552 : BitVec 32) (v557 : BitVec 32) (k3_t53 : Fin (k3_t53_loop i v552 v557).trips) : Fin 2 → Nat :=
  let c256_i32_462 : BitVec 32 := 256#32
  let c0_i32_461 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let c1_i32_1196 : BitVec 32 := 1#32
  let arg13 : BitVec 32 := Scf.iv v862 c1_i32_1196 k3_t53
  let v1836 : Index := Scalar.indexCast arg13
  let c32_1208 : Index := 32#32
  ![v1836.toNat, 32]
def k3_off213 (i : grid3.Coords) (v552 : BitVec 32) (v557 : BitVec 32) (k3_t53 : Fin (k3_t53_loop i v552 v557).trips) : Fin 2 → Nat :=
  let c256_i32_462 : BitVec 32 := 256#32
  let c0_i32_461 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let c1_i32_1196 : BitVec 32 := 1#32
  let arg13 : BitVec 32 := Scf.iv v862 c1_i32_1196 k3_t53
  let v1840 : Index := Scalar.indexCast arg13
  let c48_1209 : Index := 48#32
  ![v1840.toNat, 48]
@[reducible] def k3_t54_loop (i : grid3.Coords) (v552 : BitVec 32) (v557 : BitVec 32) : Scf.Loop 32 :=
  let c256_i32_462 : BitVec 32 := 256#32
  let c0_i32_461 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let c256_i32_465 : BitVec 32 := 256#32
  let c0_i32_464 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c0_i32_463 : BitVec 32 := 0#32
  let v863 : BitVec 32 := Scalar.subi v560 c0_i32_463
  let v864 : BitVec 32 := Scalar.maxsi c0_i32_464 v863
  let v865 : BitVec 32 := Scalar.minsi c256_i32_465 v864
  let v1805 : BitVec 32 := Scalar.subi v865 v862
  let c1_i32_1195 : BitVec 32 := 1#32
  let v1807 : BitVec 32 := Scalar.divsi v1805 c1_i32_1195
  let v1808 : BitVec 32 := Scalar.muli v1807 c1_i32_1195
  let v1809 : BitVec 32 := Scalar.addi v862 v1808
  let v1806 : BitVec 32 := Scalar.addi v862 v1805
  let c1_i32_1197 : BitVec 32 := 1#32
  ⟨v1809, v1806, c1_i32_1197⟩
def k3_off214 (i : grid3.Coords) (v552 : BitVec 32) (v557 : BitVec 32) (k3_t54 : Fin (k3_t54_loop i v552 v557).trips) : Fin 2 → Nat :=
  let c256_i32_462 : BitVec 32 := 256#32
  let c0_i32_461 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let c256_i32_465 : BitVec 32 := 256#32
  let c0_i32_464 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c0_i32_463 : BitVec 32 := 0#32
  let v863 : BitVec 32 := Scalar.subi v560 c0_i32_463
  let v864 : BitVec 32 := Scalar.maxsi c0_i32_464 v863
  let v865 : BitVec 32 := Scalar.minsi c256_i32_465 v864
  let v1805 : BitVec 32 := Scalar.subi v865 v862
  let c1_i32_1195 : BitVec 32 := 1#32
  let v1807 : BitVec 32 := Scalar.divsi v1805 c1_i32_1195
  let v1808 : BitVec 32 := Scalar.muli v1807 c1_i32_1195
  let v1809 : BitVec 32 := Scalar.addi v862 v1808
  let c1_i32_1197 : BitVec 32 := 1#32
  let arg13 : BitVec 32 := Scf.iv v1809 c1_i32_1197 k3_t54
  let v1828 : Index := Scalar.indexCast arg13
  let c0_1206 : Index := 0#32
  ![v1828.toNat, 0]

variable {F : FTy → Type} [FloatOps F]

def k3_off215 (i : grid3.Coords) (v552 : BitVec 32) (v557 : BitVec 32) (k3_t54 : Fin (k3_t54_loop i v552 v557).trips) : Fin 2 → Nat :=
  let c256_i32_462 : BitVec 32 := 256#32
  let c0_i32_461 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let c256_i32_465 : BitVec 32 := 256#32
  let c0_i32_464 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c0_i32_463 : BitVec 32 := 0#32
  let v863 : BitVec 32 := Scalar.subi v560 c0_i32_463
  let v864 : BitVec 32 := Scalar.maxsi c0_i32_464 v863
  let v865 : BitVec 32 := Scalar.minsi c256_i32_465 v864
  let v1805 : BitVec 32 := Scalar.subi v865 v862
  let c1_i32_1195 : BitVec 32 := 1#32
  let v1807 : BitVec 32 := Scalar.divsi v1805 c1_i32_1195
  let v1808 : BitVec 32 := Scalar.muli v1807 c1_i32_1195
  let v1809 : BitVec 32 := Scalar.addi v862 v1808
  let c1_i32_1197 : BitVec 32 := 1#32
  let arg13 : BitVec 32 := Scf.iv v1809 c1_i32_1197 k3_t54
  let v1832 : Index := Scalar.indexCast arg13
  let c16_1207 : Index := 16#32
  ![v1832.toNat, 16]
def k3_off216 (i : grid3.Coords) (v552 : BitVec 32) (v557 : BitVec 32) (k3_t54 : Fin (k3_t54_loop i v552 v557).trips) : Fin 2 → Nat :=
  let c256_i32_462 : BitVec 32 := 256#32
  let c0_i32_461 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let c256_i32_465 : BitVec 32 := 256#32
  let c0_i32_464 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c0_i32_463 : BitVec 32 := 0#32
  let v863 : BitVec 32 := Scalar.subi v560 c0_i32_463
  let v864 : BitVec 32 := Scalar.maxsi c0_i32_464 v863
  let v865 : BitVec 32 := Scalar.minsi c256_i32_465 v864
  let v1805 : BitVec 32 := Scalar.subi v865 v862
  let c1_i32_1195 : BitVec 32 := 1#32
  let v1807 : BitVec 32 := Scalar.divsi v1805 c1_i32_1195
  let v1808 : BitVec 32 := Scalar.muli v1807 c1_i32_1195
  let v1809 : BitVec 32 := Scalar.addi v862 v1808
  let c1_i32_1197 : BitVec 32 := 1#32
  let arg13 : BitVec 32 := Scf.iv v1809 c1_i32_1197 k3_t54
  let v1836 : Index := Scalar.indexCast arg13
  let c32_1208 : Index := 32#32
  ![v1836.toNat, 32]
def k3_off217 (i : grid3.Coords) (v552 : BitVec 32) (v557 : BitVec 32) (k3_t54 : Fin (k3_t54_loop i v552 v557).trips) : Fin 2 → Nat :=
  let c256_i32_462 : BitVec 32 := 256#32
  let c0_i32_461 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c0_i32_460 : BitVec 32 := 0#32
  let v860 : BitVec 32 := Scalar.subi v555 c0_i32_460
  let v861 : BitVec 32 := Scalar.maxsi c0_i32_461 v860
  let v862 : BitVec 32 := Scalar.minsi c256_i32_462 v861
  let c256_i32_465 : BitVec 32 := 256#32
  let c0_i32_464 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c0_i32_463 : BitVec 32 := 0#32
  let v863 : BitVec 32 := Scalar.subi v560 c0_i32_463
  let v864 : BitVec 32 := Scalar.maxsi c0_i32_464 v863
  let v865 : BitVec 32 := Scalar.minsi c256_i32_465 v864
  let v1805 : BitVec 32 := Scalar.subi v865 v862
  let c1_i32_1195 : BitVec 32 := 1#32
  let v1807 : BitVec 32 := Scalar.divsi v1805 c1_i32_1195
  let v1808 : BitVec 32 := Scalar.muli v1807 c1_i32_1195
  let v1809 : BitVec 32 := Scalar.addi v862 v1808
  let c1_i32_1197 : BitVec 32 := 1#32
  let arg13 : BitVec 32 := Scf.iv v1809 c1_i32_1197 k3_t54
  let v1840 : Index := Scalar.indexCast arg13
  let c48_1209 : Index := 48#32
  ![v1840.toNat, 48]
@[reducible] def k3_t55_loop (i : grid3.Coords) (v562 : BitVec 32) (v568 : BitVec 32) : Scf.Loop 32 :=
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let c256_i32_472 : BitVec 32 := 256#32
  let c0_i32_471 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c0_i32_470 : BitVec 32 := 0#32
  let v872 : BitVec 32 := Scalar.subi v572 c0_i32_470
  let v873 : BitVec 32 := Scalar.maxsi c0_i32_471 v872
  let v874 : BitVec 32 := Scalar.minsi c256_i32_472 v873
  let v1805 : BitVec 32 := Scalar.subi v874 v871
  let c1_i32_1195 : BitVec 32 := 1#32
  let v1807 : BitVec 32 := Scalar.divsi v1805 c1_i32_1195
  let v1808 : BitVec 32 := Scalar.muli v1807 c1_i32_1195
  let v1809 : BitVec 32 := Scalar.addi v871 v1808
  let c1_i32_1196 : BitVec 32 := 1#32
  ⟨v871, v1809, c1_i32_1196⟩
def k3_cond28 (i : grid3.Coords) (v562 : BitVec 32) (v568 : BitVec 32) : BitVec 1 :=
  let c256_i32_472 : BitVec 32 := 256#32
  let c0_i32_471 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v570 : BitVec 32 := Scalar.subi v569 v3
  let v571 : BitVec 32 := Scalar.maxsi c0_i32_248 v570
  let v572 : BitVec 32 := Scalar.minsi c1024_i32_249 v571
  let c0_i32_470 : BitVec 32 := 0#32
  let v872 : BitVec 32 := Scalar.subi v572 c0_i32_470
  let v873 : BitVec 32 := Scalar.maxsi c0_i32_471 v872
  let v874 : BitVec 32 := Scalar.minsi c256_i32_472 v873
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let v875 : BitVec 1 := Scalar.cmpi .sgt v874 v871
  let v876 : BitVec 32 := Scalar.extui v875
  let c0_i32_473 : BitVec 32 := 0#32
  let v877 : BitVec 1 := Scalar.cmpi .ne v876 c0_i32_473
  v877

def k3_off218 (i : grid3.Coords) (v562 : BitVec 32) (v568 : BitVec 32) (k3_t55 : Fin (k3_t55_loop i v562 v568).trips) : Fin 2 → Nat :=
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let c1_i32_1196 : BitVec 32 := 1#32
  let arg13 : BitVec 32 := Scf.iv v871 c1_i32_1196 k3_t55
  let v1828 : Index := Scalar.indexCast arg13
  let c64 : Index := 64#32
  ![v1828.toNat, 64]
def k3_off219 (i : grid3.Coords) (v562 : BitVec 32) (v568 : BitVec 32) (k3_t55 : Fin (k3_t55_loop i v562 v568).trips) : Fin 2 → Nat :=
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let c1_i32_1196 : BitVec 32 := 1#32
  let arg13 : BitVec 32 := Scf.iv v871 c1_i32_1196 k3_t55
  let v1832 : Index := Scalar.indexCast arg13
  let c80 : Index := 80#32
  ![v1832.toNat, 80]
def k3_off220 (i : grid3.Coords) (v562 : BitVec 32) (v568 : BitVec 32) (k3_t55 : Fin (k3_t55_loop i v562 v568).trips) : Fin 2 → Nat :=
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let c1_i32_1196 : BitVec 32 := 1#32
  let arg13 : BitVec 32 := Scf.iv v871 c1_i32_1196 k3_t55
  let v1836 : Index := Scalar.indexCast arg13
  let c96 : Index := 96#32
  ![v1836.toNat, 96]
def k3_off221 (i : grid3.Coords) (v562 : BitVec 32) (v568 : BitVec 32) (k3_t55 : Fin (k3_t55_loop i v562 v568).trips) : Fin 2 → Nat :=
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let c1_i32_1196 : BitVec 32 := 1#32
  let arg13 : BitVec 32 := Scf.iv v871 c1_i32_1196 k3_t55
  let v1840 : Index := Scalar.indexCast arg13
  let c112 : Index := 112#32
  ![v1840.toNat, 112]
@[reducible] def k3_t56_loop (i : grid3.Coords) (v562 : BitVec 32) (v568 : BitVec 32) : Scf.Loop 32 :=
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let c256_i32_472 : BitVec 32 := 256#32
  let c0_i32_471 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c0_i32_470 : BitVec 32 := 0#32
  let v872 : BitVec 32 := Scalar.subi v572 c0_i32_470
  let v873 : BitVec 32 := Scalar.maxsi c0_i32_471 v872
  let v874 : BitVec 32 := Scalar.minsi c256_i32_472 v873
  let v1805 : BitVec 32 := Scalar.subi v874 v871
  let c1_i32_1195 : BitVec 32 := 1#32
  let v1807 : BitVec 32 := Scalar.divsi v1805 c1_i32_1195
  let v1808 : BitVec 32 := Scalar.muli v1807 c1_i32_1195
  let v1809 : BitVec 32 := Scalar.addi v871 v1808
  let v1806 : BitVec 32 := Scalar.addi v871 v1805
  let c1_i32_1197 : BitVec 32 := 1#32
  ⟨v1809, v1806, c1_i32_1197⟩
def k3_off222 (i : grid3.Coords) (v562 : BitVec 32) (v568 : BitVec 32) (k3_t56 : Fin (k3_t56_loop i v562 v568).trips) : Fin 2 → Nat :=
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let c256_i32_472 : BitVec 32 := 256#32
  let c0_i32_471 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c0_i32_470 : BitVec 32 := 0#32
  let v872 : BitVec 32 := Scalar.subi v572 c0_i32_470
  let v873 : BitVec 32 := Scalar.maxsi c0_i32_471 v872
  let v874 : BitVec 32 := Scalar.minsi c256_i32_472 v873
  let v1805 : BitVec 32 := Scalar.subi v874 v871
  let c1_i32_1195 : BitVec 32 := 1#32
  let v1807 : BitVec 32 := Scalar.divsi v1805 c1_i32_1195
  let v1808 : BitVec 32 := Scalar.muli v1807 c1_i32_1195
  let v1809 : BitVec 32 := Scalar.addi v871 v1808
  let c1_i32_1197 : BitVec 32 := 1#32
  let arg13 : BitVec 32 := Scf.iv v1809 c1_i32_1197 k3_t56
  let v1828 : Index := Scalar.indexCast arg13
  let c64 : Index := 64#32
  ![v1828.toNat, 64]
def k3_off223 (i : grid3.Coords) (v562 : BitVec 32) (v568 : BitVec 32) (k3_t56 : Fin (k3_t56_loop i v562 v568).trips) : Fin 2 → Nat :=
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let c256_i32_472 : BitVec 32 := 256#32
  let c0_i32_471 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c0_i32_470 : BitVec 32 := 0#32
  let v872 : BitVec 32 := Scalar.subi v572 c0_i32_470
  let v873 : BitVec 32 := Scalar.maxsi c0_i32_471 v872
  let v874 : BitVec 32 := Scalar.minsi c256_i32_472 v873
  let v1805 : BitVec 32 := Scalar.subi v874 v871
  let c1_i32_1195 : BitVec 32 := 1#32
  let v1807 : BitVec 32 := Scalar.divsi v1805 c1_i32_1195
  let v1808 : BitVec 32 := Scalar.muli v1807 c1_i32_1195
  let v1809 : BitVec 32 := Scalar.addi v871 v1808
  let c1_i32_1197 : BitVec 32 := 1#32
  let arg13 : BitVec 32 := Scf.iv v1809 c1_i32_1197 k3_t56
  let v1832 : Index := Scalar.indexCast arg13
  let c80 : Index := 80#32
  ![v1832.toNat, 80]
def k3_off224 (i : grid3.Coords) (v562 : BitVec 32) (v568 : BitVec 32) (k3_t56 : Fin (k3_t56_loop i v562 v568).trips) : Fin 2 → Nat :=
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let c256_i32_472 : BitVec 32 := 256#32
  let c0_i32_471 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c0_i32_470 : BitVec 32 := 0#32
  let v872 : BitVec 32 := Scalar.subi v572 c0_i32_470
  let v873 : BitVec 32 := Scalar.maxsi c0_i32_471 v872
  let v874 : BitVec 32 := Scalar.minsi c256_i32_472 v873
  let v1805 : BitVec 32 := Scalar.subi v874 v871
  let c1_i32_1195 : BitVec 32 := 1#32
  let v1807 : BitVec 32 := Scalar.divsi v1805 c1_i32_1195
  let v1808 : BitVec 32 := Scalar.muli v1807 c1_i32_1195
  let v1809 : BitVec 32 := Scalar.addi v871 v1808
  let c1_i32_1197 : BitVec 32 := 1#32
  let arg13 : BitVec 32 := Scf.iv v1809 c1_i32_1197 k3_t56
  let v1836 : Index := Scalar.indexCast arg13
  let c96 : Index := 96#32
  ![v1836.toNat, 96]
def k3_off225 (i : grid3.Coords) (v562 : BitVec 32) (v568 : BitVec 32) (k3_t56 : Fin (k3_t56_loop i v562 v568).trips) : Fin 2 → Nat :=
  let c256_i32_469 : BitVec 32 := 256#32
  let c0_i32_468 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c0_i32_467 : BitVec 32 := 0#32
  let v869 : BitVec 32 := Scalar.subi v566 c0_i32_467
  let v870 : BitVec 32 := Scalar.maxsi c0_i32_468 v869
  let v871 : BitVec 32 := Scalar.minsi c256_i32_469 v870
  let c256_i32_472 : BitVec 32 := 256#32
  let c0_i32_471 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c0_i32_470 : BitVec 32 := 0#32
  let v872 : BitVec 32 := Scalar.subi v572 c0_i32_470
  let v873 : BitVec 32 := Scalar.maxsi c0_i32_471 v872
  let v874 : BitVec 32 := Scalar.minsi c256_i32_472 v873
  let v1805 : BitVec 32 := Scalar.subi v874 v871
  let c1_i32_1195 : BitVec 32 := 1#32
  let v1807 : BitVec 32 := Scalar.divsi v1805 c1_i32_1195
  let v1808 : BitVec 32 := Scalar.muli v1807 c1_i32_1195
  let v1809 : BitVec 32 := Scalar.addi v871 v1808
  let c1_i32_1197 : BitVec 32 := 1#32
  let arg13 : BitVec 32 := Scf.iv v1809 c1_i32_1197 k3_t56
  let v1840 : Index := Scalar.indexCast arg13
  let c112 : Index := 112#32
  ![v1840.toNat, 112]
@[reducible] def k3_t57_loop (i : grid3.Coords) (v574 : BitVec 32) (v579 : BitVec 32) : Scf.Loop 32 :=
  let c256_i32_476 : BitVec 32 := 256#32
  let c0_i32_475 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let c256_i32_479 : BitVec 32 := 256#32
  let c0_i32_478 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c0_i32_477 : BitVec 32 := 0#32
  let v881 : BitVec 32 := Scalar.subi v582 c0_i32_477
  let v882 : BitVec 32 := Scalar.maxsi c0_i32_478 v881
  let v883 : BitVec 32 := Scalar.minsi c256_i32_479 v882
  let v1805 : BitVec 32 := Scalar.subi v883 v880
  let c1_i32_1195 : BitVec 32 := 1#32
  let v1807 : BitVec 32 := Scalar.divsi v1805 c1_i32_1195
  let v1808 : BitVec 32 := Scalar.muli v1807 c1_i32_1195
  let v1809 : BitVec 32 := Scalar.addi v880 v1808
  let c1_i32_1196 : BitVec 32 := 1#32
  ⟨v880, v1809, c1_i32_1196⟩
def k3_cond29 (i : grid3.Coords) (v574 : BitVec 32) (v579 : BitVec 32) : BitVec 1 :=
  let c256_i32_479 : BitVec 32 := 256#32
  let c0_i32_478 : BitVec 32 := 0#32
  let c1024_i32_253 : BitVec 32 := 1024#32
  let c0_i32_252 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v580 : BitVec 32 := Scalar.subi v579 v3
  let v581 : BitVec 32 := Scalar.maxsi c0_i32_252 v580
  let v582 : BitVec 32 := Scalar.minsi c1024_i32_253 v581
  let c0_i32_477 : BitVec 32 := 0#32
  let v881 : BitVec 32 := Scalar.subi v582 c0_i32_477
  let v882 : BitVec 32 := Scalar.maxsi c0_i32_478 v881
  let v883 : BitVec 32 := Scalar.minsi c256_i32_479 v882
  let c256_i32_476 : BitVec 32 := 256#32
  let c0_i32_475 : BitVec 32 := 0#32
  let c1024_i32_251 : BitVec 32 := 1024#32
  let c0_i32_250 : BitVec 32 := 0#32
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let v884 : BitVec 1 := Scalar.cmpi .sgt v883 v880
  let v885 : BitVec 32 := Scalar.extui v884
  let c0_i32_480 : BitVec 32 := 0#32
  let v886 : BitVec 1 := Scalar.cmpi .ne v885 c0_i32_480
  v886

def k3_off226 (i : grid3.Coords) (v574 : BitVec 32) (v579 : BitVec 32) (k3_t57 : Fin (k3_t57_loop i v574 v579).trips) : Fin 2 → Nat :=
  let c256_i32_476 : BitVec 32 := 256#32
  let c0_i32_475 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let c1_i32_1196 : BitVec 32 := 1#32
  let arg13 : BitVec 32 := Scf.iv v880 c1_i32_1196 k3_t57
  let v1828 : Index := Scalar.indexCast arg13
  let c0_1206 : Index := 0#32
  ![v1828.toNat, 0]
def k3_off227 (i : grid3.Coords) (v574 : BitVec 32) (v579 : BitVec 32) (k3_t57 : Fin (k3_t57_loop i v574 v579).trips) : Fin 2 → Nat :=
  let c256_i32_476 : BitVec 32 := 256#32
  let c0_i32_475 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let c1_i32_1196 : BitVec 32 := 1#32
  let arg13 : BitVec 32 := Scf.iv v880 c1_i32_1196 k3_t57
  let v1832 : Index := Scalar.indexCast arg13
  let c16_1207 : Index := 16#32
  ![v1832.toNat, 16]
def k3_off228 (i : grid3.Coords) (v574 : BitVec 32) (v579 : BitVec 32) (k3_t57 : Fin (k3_t57_loop i v574 v579).trips) : Fin 2 → Nat :=
  let c256_i32_476 : BitVec 32 := 256#32
  let c0_i32_475 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let c1_i32_1196 : BitVec 32 := 1#32
  let arg13 : BitVec 32 := Scf.iv v880 c1_i32_1196 k3_t57
  let v1836 : Index := Scalar.indexCast arg13
  let c32_1208 : Index := 32#32
  ![v1836.toNat, 32]
def k3_off229 (i : grid3.Coords) (v574 : BitVec 32) (v579 : BitVec 32) (k3_t57 : Fin (k3_t57_loop i v574 v579).trips) : Fin 2 → Nat :=
  let c256_i32_476 : BitVec 32 := 256#32
  let c0_i32_475 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let c1_i32_1196 : BitVec 32 := 1#32
  let arg13 : BitVec 32 := Scf.iv v880 c1_i32_1196 k3_t57
  let v1840 : Index := Scalar.indexCast arg13
  let c48_1209 : Index := 48#32
  ![v1840.toNat, 48]
@[reducible] def k3_t58_loop (i : grid3.Coords) (v574 : BitVec 32) (v579 : BitVec 32) : Scf.Loop 32 :=
  let c256_i32_476 : BitVec 32 := 256#32
  let c0_i32_475 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let c256_i32_479 : BitVec 32 := 256#32
  let c0_i32_478 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c0_i32_477 : BitVec 32 := 0#32
  let v881 : BitVec 32 := Scalar.subi v582 c0_i32_477
  let v882 : BitVec 32 := Scalar.maxsi c0_i32_478 v881
  let v883 : BitVec 32 := Scalar.minsi c256_i32_479 v882
  let v1805 : BitVec 32 := Scalar.subi v883 v880
  let c1_i32_1195 : BitVec 32 := 1#32
  let v1807 : BitVec 32 := Scalar.divsi v1805 c1_i32_1195
  let v1808 : BitVec 32 := Scalar.muli v1807 c1_i32_1195
  let v1809 : BitVec 32 := Scalar.addi v880 v1808
  let v1806 : BitVec 32 := Scalar.addi v880 v1805
  let c1_i32_1197 : BitVec 32 := 1#32
  ⟨v1809, v1806, c1_i32_1197⟩
def k3_off230 (i : grid3.Coords) (v574 : BitVec 32) (v579 : BitVec 32) (k3_t58 : Fin (k3_t58_loop i v574 v579).trips) : Fin 2 → Nat :=
  let c256_i32_476 : BitVec 32 := 256#32
  let c0_i32_475 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let c256_i32_479 : BitVec 32 := 256#32
  let c0_i32_478 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c0_i32_477 : BitVec 32 := 0#32
  let v881 : BitVec 32 := Scalar.subi v582 c0_i32_477
  let v882 : BitVec 32 := Scalar.maxsi c0_i32_478 v881
  let v883 : BitVec 32 := Scalar.minsi c256_i32_479 v882
  let v1805 : BitVec 32 := Scalar.subi v883 v880
  let c1_i32_1195 : BitVec 32 := 1#32
  let v1807 : BitVec 32 := Scalar.divsi v1805 c1_i32_1195
  let v1808 : BitVec 32 := Scalar.muli v1807 c1_i32_1195
  let v1809 : BitVec 32 := Scalar.addi v880 v1808
  let c1_i32_1197 : BitVec 32 := 1#32
  let arg13 : BitVec 32 := Scf.iv v1809 c1_i32_1197 k3_t58
  let v1828 : Index := Scalar.indexCast arg13
  let c0_1206 : Index := 0#32
  ![v1828.toNat, 0]
def k3_off231 (i : grid3.Coords) (v574 : BitVec 32) (v579 : BitVec 32) (k3_t58 : Fin (k3_t58_loop i v574 v579).trips) : Fin 2 → Nat :=
  let c256_i32_476 : BitVec 32 := 256#32
  let c0_i32_475 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let c256_i32_479 : BitVec 32 := 256#32
  let c0_i32_478 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c0_i32_477 : BitVec 32 := 0#32
  let v881 : BitVec 32 := Scalar.subi v582 c0_i32_477
  let v882 : BitVec 32 := Scalar.maxsi c0_i32_478 v881
  let v883 : BitVec 32 := Scalar.minsi c256_i32_479 v882
  let v1805 : BitVec 32 := Scalar.subi v883 v880
  let c1_i32_1195 : BitVec 32 := 1#32
  let v1807 : BitVec 32 := Scalar.divsi v1805 c1_i32_1195
  let v1808 : BitVec 32 := Scalar.muli v1807 c1_i32_1195
  let v1809 : BitVec 32 := Scalar.addi v880 v1808
  let c1_i32_1197 : BitVec 32 := 1#32
  let arg13 : BitVec 32 := Scf.iv v1809 c1_i32_1197 k3_t58
  let v1832 : Index := Scalar.indexCast arg13
  let c16_1207 : Index := 16#32
  ![v1832.toNat, 16]
def k3_off232 (i : grid3.Coords) (v574 : BitVec 32) (v579 : BitVec 32) (k3_t58 : Fin (k3_t58_loop i v574 v579).trips) : Fin 2 → Nat :=
  let c256_i32_476 : BitVec 32 := 256#32
  let c0_i32_475 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let c256_i32_479 : BitVec 32 := 256#32
  let c0_i32_478 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c0_i32_477 : BitVec 32 := 0#32
  let v881 : BitVec 32 := Scalar.subi v582 c0_i32_477
  let v882 : BitVec 32 := Scalar.maxsi c0_i32_478 v881
  let v883 : BitVec 32 := Scalar.minsi c256_i32_479 v882
  let v1805 : BitVec 32 := Scalar.subi v883 v880
  let c1_i32_1195 : BitVec 32 := 1#32
  let v1807 : BitVec 32 := Scalar.divsi v1805 c1_i32_1195
  let v1808 : BitVec 32 := Scalar.muli v1807 c1_i32_1195
  let v1809 : BitVec 32 := Scalar.addi v880 v1808
  let c1_i32_1197 : BitVec 32 := 1#32
  let arg13 : BitVec 32 := Scf.iv v1809 c1_i32_1197 k3_t58
  let v1836 : Index := Scalar.indexCast arg13
  let c32_1208 : Index := 32#32
  ![v1836.toNat, 32]
def k3_off233 (i : grid3.Coords) (v574 : BitVec 32) (v579 : BitVec 32) (k3_t58 : Fin (k3_t58_loop i v574 v579).trips) : Fin 2 → Nat :=
  let c256_i32_476 : BitVec 32 := 256#32
  let c0_i32_475 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c0_i32_474 : BitVec 32 := 0#32
  let v878 : BitVec 32 := Scalar.subi v577 c0_i32_474
  let v879 : BitVec 32 := Scalar.maxsi c0_i32_475 v878
  let v880 : BitVec 32 := Scalar.minsi c256_i32_476 v879
  let c256_i32_479 : BitVec 32 := 256#32
  let c0_i32_478 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c0_i32_477 : BitVec 32 := 0#32
  let v881 : BitVec 32 := Scalar.subi v582 c0_i32_477
  let v882 : BitVec 32 := Scalar.maxsi c0_i32_478 v881
  let v883 : BitVec 32 := Scalar.minsi c256_i32_479 v882
  let v1805 : BitVec 32 := Scalar.subi v883 v880
  let c1_i32_1195 : BitVec 32 := 1#32
  let v1807 : BitVec 32 := Scalar.divsi v1805 c1_i32_1195
  let v1808 : BitVec 32 := Scalar.muli v1807 c1_i32_1195
  let v1809 : BitVec 32 := Scalar.addi v880 v1808
  let c1_i32_1197 : BitVec 32 := 1#32
  let arg13 : BitVec 32 := Scf.iv v1809 c1_i32_1197 k3_t58
  let v1840 : Index := Scalar.indexCast arg13
  let c48_1209 : Index := 48#32
  ![v1840.toNat, 48]
@[reducible] def k3_t59_loop (i : grid3.Coords) (v584 : BitVec 32) (v590 : BitVec 32) : Scf.Loop 32 :=
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let c256_i32_486 : BitVec 32 := 256#32
  let c0_i32_485 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c0_i32_484 : BitVec 32 := 0#32
  let v890 : BitVec 32 := Scalar.subi v594 c0_i32_484
  let v891 : BitVec 32 := Scalar.maxsi c0_i32_485 v890
  let v892 : BitVec 32 := Scalar.minsi c256_i32_486 v891
  let v1805 : BitVec 32 := Scalar.subi v892 v889
  let c1_i32_1195 : BitVec 32 := 1#32
  let v1807 : BitVec 32 := Scalar.divsi v1805 c1_i32_1195
  let v1808 : BitVec 32 := Scalar.muli v1807 c1_i32_1195
  let v1809 : BitVec 32 := Scalar.addi v889 v1808
  let c1_i32_1196 : BitVec 32 := 1#32
  ⟨v889, v1809, c1_i32_1196⟩
def k3_cond30 (i : grid3.Coords) (v584 : BitVec 32) (v590 : BitVec 32) : BitVec 1 :=
  let c256_i32_486 : BitVec 32 := 256#32
  let c0_i32_485 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v592 : BitVec 32 := Scalar.subi v591 v3
  let v593 : BitVec 32 := Scalar.maxsi c0_i32_258 v592
  let v594 : BitVec 32 := Scalar.minsi c1024_i32_259 v593
  let c0_i32_484 : BitVec 32 := 0#32
  let v890 : BitVec 32 := Scalar.subi v594 c0_i32_484
  let v891 : BitVec 32 := Scalar.maxsi c0_i32_485 v890
  let v892 : BitVec 32 := Scalar.minsi c256_i32_486 v891
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let v893 : BitVec 1 := Scalar.cmpi .sgt v892 v889
  let v894 : BitVec 32 := Scalar.extui v893
  let c0_i32_487 : BitVec 32 := 0#32
  let v895 : BitVec 1 := Scalar.cmpi .ne v894 c0_i32_487
  v895

def k3_off234 (i : grid3.Coords) (v584 : BitVec 32) (v590 : BitVec 32) (k3_t59 : Fin (k3_t59_loop i v584 v590).trips) : Fin 2 → Nat :=
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let c1_i32_1196 : BitVec 32 := 1#32
  let arg13 : BitVec 32 := Scf.iv v889 c1_i32_1196 k3_t59
  let v1828 : Index := Scalar.indexCast arg13
  let c64 : Index := 64#32
  ![v1828.toNat, 64]
def k3_off235 (i : grid3.Coords) (v584 : BitVec 32) (v590 : BitVec 32) (k3_t59 : Fin (k3_t59_loop i v584 v590).trips) : Fin 2 → Nat :=
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let c1_i32_1196 : BitVec 32 := 1#32
  let arg13 : BitVec 32 := Scf.iv v889 c1_i32_1196 k3_t59
  let v1832 : Index := Scalar.indexCast arg13
  let c80 : Index := 80#32
  ![v1832.toNat, 80]
def k3_off236 (i : grid3.Coords) (v584 : BitVec 32) (v590 : BitVec 32) (k3_t59 : Fin (k3_t59_loop i v584 v590).trips) : Fin 2 → Nat :=
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let c1_i32_1196 : BitVec 32 := 1#32
  let arg13 : BitVec 32 := Scf.iv v889 c1_i32_1196 k3_t59
  let v1836 : Index := Scalar.indexCast arg13
  let c96 : Index := 96#32
  ![v1836.toNat, 96]
def k3_off237 (i : grid3.Coords) (v584 : BitVec 32) (v590 : BitVec 32) (k3_t59 : Fin (k3_t59_loop i v584 v590).trips) : Fin 2 → Nat :=
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let c1_i32_1196 : BitVec 32 := 1#32
  let arg13 : BitVec 32 := Scf.iv v889 c1_i32_1196 k3_t59
  let v1840 : Index := Scalar.indexCast arg13
  let c112 : Index := 112#32
  ![v1840.toNat, 112]
@[reducible] def k3_t60_loop (i : grid3.Coords) (v584 : BitVec 32) (v590 : BitVec 32) : Scf.Loop 32 :=
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let c256_i32_486 : BitVec 32 := 256#32
  let c0_i32_485 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c0_i32_484 : BitVec 32 := 0#32
  let v890 : BitVec 32 := Scalar.subi v594 c0_i32_484
  let v891 : BitVec 32 := Scalar.maxsi c0_i32_485 v890
  let v892 : BitVec 32 := Scalar.minsi c256_i32_486 v891
  let v1805 : BitVec 32 := Scalar.subi v892 v889
  let c1_i32_1195 : BitVec 32 := 1#32
  let v1807 : BitVec 32 := Scalar.divsi v1805 c1_i32_1195
  let v1808 : BitVec 32 := Scalar.muli v1807 c1_i32_1195
  let v1809 : BitVec 32 := Scalar.addi v889 v1808
  let v1806 : BitVec 32 := Scalar.addi v889 v1805
  let c1_i32_1197 : BitVec 32 := 1#32
  ⟨v1809, v1806, c1_i32_1197⟩
def k3_off238 (i : grid3.Coords) (v584 : BitVec 32) (v590 : BitVec 32) (k3_t60 : Fin (k3_t60_loop i v584 v590).trips) : Fin 2 → Nat :=
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let c256_i32_486 : BitVec 32 := 256#32
  let c0_i32_485 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c0_i32_484 : BitVec 32 := 0#32
  let v890 : BitVec 32 := Scalar.subi v594 c0_i32_484
  let v891 : BitVec 32 := Scalar.maxsi c0_i32_485 v890
  let v892 : BitVec 32 := Scalar.minsi c256_i32_486 v891
  let v1805 : BitVec 32 := Scalar.subi v892 v889
  let c1_i32_1195 : BitVec 32 := 1#32
  let v1807 : BitVec 32 := Scalar.divsi v1805 c1_i32_1195
  let v1808 : BitVec 32 := Scalar.muli v1807 c1_i32_1195
  let v1809 : BitVec 32 := Scalar.addi v889 v1808
  let c1_i32_1197 : BitVec 32 := 1#32
  let arg13 : BitVec 32 := Scf.iv v1809 c1_i32_1197 k3_t60
  let v1828 : Index := Scalar.indexCast arg13
  let c64 : Index := 64#32
  ![v1828.toNat, 64]
def k3_off239 (i : grid3.Coords) (v584 : BitVec 32) (v590 : BitVec 32) (k3_t60 : Fin (k3_t60_loop i v584 v590).trips) : Fin 2 → Nat :=
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let c256_i32_486 : BitVec 32 := 256#32
  let c0_i32_485 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c0_i32_484 : BitVec 32 := 0#32
  let v890 : BitVec 32 := Scalar.subi v594 c0_i32_484
  let v891 : BitVec 32 := Scalar.maxsi c0_i32_485 v890
  let v892 : BitVec 32 := Scalar.minsi c256_i32_486 v891
  let v1805 : BitVec 32 := Scalar.subi v892 v889
  let c1_i32_1195 : BitVec 32 := 1#32
  let v1807 : BitVec 32 := Scalar.divsi v1805 c1_i32_1195
  let v1808 : BitVec 32 := Scalar.muli v1807 c1_i32_1195
  let v1809 : BitVec 32 := Scalar.addi v889 v1808
  let c1_i32_1197 : BitVec 32 := 1#32
  let arg13 : BitVec 32 := Scf.iv v1809 c1_i32_1197 k3_t60
  let v1832 : Index := Scalar.indexCast arg13
  let c80 : Index := 80#32
  ![v1832.toNat, 80]
def k3_off240 (i : grid3.Coords) (v584 : BitVec 32) (v590 : BitVec 32) (k3_t60 : Fin (k3_t60_loop i v584 v590).trips) : Fin 2 → Nat :=
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let c256_i32_486 : BitVec 32 := 256#32
  let c0_i32_485 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c0_i32_484 : BitVec 32 := 0#32
  let v890 : BitVec 32 := Scalar.subi v594 c0_i32_484
  let v891 : BitVec 32 := Scalar.maxsi c0_i32_485 v890
  let v892 : BitVec 32 := Scalar.minsi c256_i32_486 v891
  let v1805 : BitVec 32 := Scalar.subi v892 v889
  let c1_i32_1195 : BitVec 32 := 1#32
  let v1807 : BitVec 32 := Scalar.divsi v1805 c1_i32_1195
  let v1808 : BitVec 32 := Scalar.muli v1807 c1_i32_1195
  let v1809 : BitVec 32 := Scalar.addi v889 v1808
  let c1_i32_1197 : BitVec 32 := 1#32
  let arg13 : BitVec 32 := Scf.iv v1809 c1_i32_1197 k3_t60
  let v1836 : Index := Scalar.indexCast arg13
  let c96 : Index := 96#32
  ![v1836.toNat, 96]
def k3_off241 (i : grid3.Coords) (v584 : BitVec 32) (v590 : BitVec 32) (k3_t60 : Fin (k3_t60_loop i v584 v590).trips) : Fin 2 → Nat :=
  let c256_i32_483 : BitVec 32 := 256#32
  let c0_i32_482 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c0_i32_481 : BitVec 32 := 0#32
  let v887 : BitVec 32 := Scalar.subi v588 c0_i32_481
  let v888 : BitVec 32 := Scalar.maxsi c0_i32_482 v887
  let v889 : BitVec 32 := Scalar.minsi c256_i32_483 v888
  let c256_i32_486 : BitVec 32 := 256#32
  let c0_i32_485 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c0_i32_484 : BitVec 32 := 0#32
  let v890 : BitVec 32 := Scalar.subi v594 c0_i32_484
  let v891 : BitVec 32 := Scalar.maxsi c0_i32_485 v890
  let v892 : BitVec 32 := Scalar.minsi c256_i32_486 v891
  let v1805 : BitVec 32 := Scalar.subi v892 v889
  let c1_i32_1195 : BitVec 32 := 1#32
  let v1807 : BitVec 32 := Scalar.divsi v1805 c1_i32_1195
  let v1808 : BitVec 32 := Scalar.muli v1807 c1_i32_1195
  let v1809 : BitVec 32 := Scalar.addi v889 v1808
  let c1_i32_1197 : BitVec 32 := 1#32
  let arg13 : BitVec 32 := Scf.iv v1809 c1_i32_1197 k3_t60
  let v1840 : Index := Scalar.indexCast arg13
  let c112 : Index := 112#32
  ![v1840.toNat, 112]
@[reducible] def k3_t61_loop (i : grid3.Coords) (v596 : BitVec 32) (v601 : BitVec 32) : Scf.Loop 32 :=
  let c256_i32_490 : BitVec 32 := 256#32
  let c0_i32_489 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let c256_i32_493 : BitVec 32 := 256#32
  let c0_i32_492 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c0_i32_491 : BitVec 32 := 0#32
  let v899 : BitVec 32 := Scalar.subi v604 c0_i32_491
  let v900 : BitVec 32 := Scalar.maxsi c0_i32_492 v899
  let v901 : BitVec 32 := Scalar.minsi c256_i32_493 v900
  let v1805 : BitVec 32 := Scalar.subi v901 v898
  let c1_i32_1195 : BitVec 32 := 1#32
  let v1807 : BitVec 32 := Scalar.divsi v1805 c1_i32_1195
  let v1808 : BitVec 32 := Scalar.muli v1807 c1_i32_1195
  let v1809 : BitVec 32 := Scalar.addi v898 v1808
  let c1_i32_1196 : BitVec 32 := 1#32
  ⟨v898, v1809, c1_i32_1196⟩
def k3_cond31 (i : grid3.Coords) (v596 : BitVec 32) (v601 : BitVec 32) : BitVec 1 :=
  let c256_i32_493 : BitVec 32 := 256#32
  let c0_i32_492 : BitVec 32 := 0#32
  let c1024_i32_263 : BitVec 32 := 1024#32
  let c0_i32_262 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v602 : BitVec 32 := Scalar.subi v601 v3
  let v603 : BitVec 32 := Scalar.maxsi c0_i32_262 v602
  let v604 : BitVec 32 := Scalar.minsi c1024_i32_263 v603
  let c0_i32_491 : BitVec 32 := 0#32
  let v899 : BitVec 32 := Scalar.subi v604 c0_i32_491
  let v900 : BitVec 32 := Scalar.maxsi c0_i32_492 v899
  let v901 : BitVec 32 := Scalar.minsi c256_i32_493 v900
  let c256_i32_490 : BitVec 32 := 256#32
  let c0_i32_489 : BitVec 32 := 0#32
  let c1024_i32_261 : BitVec 32 := 1024#32
  let c0_i32_260 : BitVec 32 := 0#32
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let v902 : BitVec 1 := Scalar.cmpi .sgt v901 v898
  let v903 : BitVec 32 := Scalar.extui v902
  let c0_i32_494 : BitVec 32 := 0#32
  let v904 : BitVec 1 := Scalar.cmpi .ne v903 c0_i32_494
  v904

def k3_off242 (i : grid3.Coords) (v596 : BitVec 32) (v601 : BitVec 32) (k3_t61 : Fin (k3_t61_loop i v596 v601).trips) : Fin 2 → Nat :=
  let c256_i32_490 : BitVec 32 := 256#32
  let c0_i32_489 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let c1_i32_1196 : BitVec 32 := 1#32
  let arg13 : BitVec 32 := Scf.iv v898 c1_i32_1196 k3_t61
  let v1828 : Index := Scalar.indexCast arg13
  let c0_1206 : Index := 0#32
  ![v1828.toNat, 0]
def k3_off243 (i : grid3.Coords) (v596 : BitVec 32) (v601 : BitVec 32) (k3_t61 : Fin (k3_t61_loop i v596 v601).trips) : Fin 2 → Nat :=
  let c256_i32_490 : BitVec 32 := 256#32
  let c0_i32_489 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let c1_i32_1196 : BitVec 32 := 1#32
  let arg13 : BitVec 32 := Scf.iv v898 c1_i32_1196 k3_t61
  let v1832 : Index := Scalar.indexCast arg13
  let c16_1207 : Index := 16#32
  ![v1832.toNat, 16]
def k3_off244 (i : grid3.Coords) (v596 : BitVec 32) (v601 : BitVec 32) (k3_t61 : Fin (k3_t61_loop i v596 v601).trips) : Fin 2 → Nat :=
  let c256_i32_490 : BitVec 32 := 256#32
  let c0_i32_489 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let c1_i32_1196 : BitVec 32 := 1#32
  let arg13 : BitVec 32 := Scf.iv v898 c1_i32_1196 k3_t61
  let v1836 : Index := Scalar.indexCast arg13
  let c32_1208 : Index := 32#32
  ![v1836.toNat, 32]
def k3_off245 (i : grid3.Coords) (v596 : BitVec 32) (v601 : BitVec 32) (k3_t61 : Fin (k3_t61_loop i v596 v601).trips) : Fin 2 → Nat :=
  let c256_i32_490 : BitVec 32 := 256#32
  let c0_i32_489 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let c1_i32_1196 : BitVec 32 := 1#32
  let arg13 : BitVec 32 := Scf.iv v898 c1_i32_1196 k3_t61
  let v1840 : Index := Scalar.indexCast arg13
  let c48_1209 : Index := 48#32
  ![v1840.toNat, 48]
@[reducible] def k3_t62_loop (i : grid3.Coords) (v596 : BitVec 32) (v601 : BitVec 32) : Scf.Loop 32 :=
  let c256_i32_490 : BitVec 32 := 256#32
  let c0_i32_489 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let c256_i32_493 : BitVec 32 := 256#32
  let c0_i32_492 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c0_i32_491 : BitVec 32 := 0#32
  let v899 : BitVec 32 := Scalar.subi v604 c0_i32_491
  let v900 : BitVec 32 := Scalar.maxsi c0_i32_492 v899
  let v901 : BitVec 32 := Scalar.minsi c256_i32_493 v900
  let v1805 : BitVec 32 := Scalar.subi v901 v898
  let c1_i32_1195 : BitVec 32 := 1#32
  let v1807 : BitVec 32 := Scalar.divsi v1805 c1_i32_1195
  let v1808 : BitVec 32 := Scalar.muli v1807 c1_i32_1195
  let v1809 : BitVec 32 := Scalar.addi v898 v1808
  let v1806 : BitVec 32 := Scalar.addi v898 v1805
  let c1_i32_1197 : BitVec 32 := 1#32
  ⟨v1809, v1806, c1_i32_1197⟩
def k3_off246 (i : grid3.Coords) (v596 : BitVec 32) (v601 : BitVec 32) (k3_t62 : Fin (k3_t62_loop i v596 v601).trips) : Fin 2 → Nat :=
  let c256_i32_490 : BitVec 32 := 256#32
  let c0_i32_489 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let c256_i32_493 : BitVec 32 := 256#32
  let c0_i32_492 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c0_i32_491 : BitVec 32 := 0#32
  let v899 : BitVec 32 := Scalar.subi v604 c0_i32_491
  let v900 : BitVec 32 := Scalar.maxsi c0_i32_492 v899
  let v901 : BitVec 32 := Scalar.minsi c256_i32_493 v900
  let v1805 : BitVec 32 := Scalar.subi v901 v898
  let c1_i32_1195 : BitVec 32 := 1#32
  let v1807 : BitVec 32 := Scalar.divsi v1805 c1_i32_1195
  let v1808 : BitVec 32 := Scalar.muli v1807 c1_i32_1195
  let v1809 : BitVec 32 := Scalar.addi v898 v1808
  let c1_i32_1197 : BitVec 32 := 1#32
  let arg13 : BitVec 32 := Scf.iv v1809 c1_i32_1197 k3_t62
  let v1828 : Index := Scalar.indexCast arg13
  let c0_1206 : Index := 0#32
  ![v1828.toNat, 0]
def k3_off247 (i : grid3.Coords) (v596 : BitVec 32) (v601 : BitVec 32) (k3_t62 : Fin (k3_t62_loop i v596 v601).trips) : Fin 2 → Nat :=
  let c256_i32_490 : BitVec 32 := 256#32
  let c0_i32_489 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let c256_i32_493 : BitVec 32 := 256#32
  let c0_i32_492 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c0_i32_491 : BitVec 32 := 0#32
  let v899 : BitVec 32 := Scalar.subi v604 c0_i32_491
  let v900 : BitVec 32 := Scalar.maxsi c0_i32_492 v899
  let v901 : BitVec 32 := Scalar.minsi c256_i32_493 v900
  let v1805 : BitVec 32 := Scalar.subi v901 v898
  let c1_i32_1195 : BitVec 32 := 1#32
  let v1807 : BitVec 32 := Scalar.divsi v1805 c1_i32_1195
  let v1808 : BitVec 32 := Scalar.muli v1807 c1_i32_1195
  let v1809 : BitVec 32 := Scalar.addi v898 v1808
  let c1_i32_1197 : BitVec 32 := 1#32
  let arg13 : BitVec 32 := Scf.iv v1809 c1_i32_1197 k3_t62
  let v1832 : Index := Scalar.indexCast arg13
  let c16_1207 : Index := 16#32
  ![v1832.toNat, 16]
def k3_off248 (i : grid3.Coords) (v596 : BitVec 32) (v601 : BitVec 32) (k3_t62 : Fin (k3_t62_loop i v596 v601).trips) : Fin 2 → Nat :=
  let c256_i32_490 : BitVec 32 := 256#32
  let c0_i32_489 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let c256_i32_493 : BitVec 32 := 256#32
  let c0_i32_492 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c0_i32_491 : BitVec 32 := 0#32
  let v899 : BitVec 32 := Scalar.subi v604 c0_i32_491
  let v900 : BitVec 32 := Scalar.maxsi c0_i32_492 v899
  let v901 : BitVec 32 := Scalar.minsi c256_i32_493 v900
  let v1805 : BitVec 32 := Scalar.subi v901 v898
  let c1_i32_1195 : BitVec 32 := 1#32
  let v1807 : BitVec 32 := Scalar.divsi v1805 c1_i32_1195
  let v1808 : BitVec 32 := Scalar.muli v1807 c1_i32_1195
  let v1809 : BitVec 32 := Scalar.addi v898 v1808
  let c1_i32_1197 : BitVec 32 := 1#32
  let arg13 : BitVec 32 := Scf.iv v1809 c1_i32_1197 k3_t62
  let v1836 : Index := Scalar.indexCast arg13
  let c32_1208 : Index := 32#32
  ![v1836.toNat, 32]
def k3_off249 (i : grid3.Coords) (v596 : BitVec 32) (v601 : BitVec 32) (k3_t62 : Fin (k3_t62_loop i v596 v601).trips) : Fin 2 → Nat :=
  let c256_i32_490 : BitVec 32 := 256#32
  let c0_i32_489 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c0_i32_488 : BitVec 32 := 0#32
  let v896 : BitVec 32 := Scalar.subi v599 c0_i32_488
  let v897 : BitVec 32 := Scalar.maxsi c0_i32_489 v896
  let v898 : BitVec 32 := Scalar.minsi c256_i32_490 v897
  let c256_i32_493 : BitVec 32 := 256#32
  let c0_i32_492 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c0_i32_491 : BitVec 32 := 0#32
  let v899 : BitVec 32 := Scalar.subi v604 c0_i32_491
  let v900 : BitVec 32 := Scalar.maxsi c0_i32_492 v899
  let v901 : BitVec 32 := Scalar.minsi c256_i32_493 v900
  let v1805 : BitVec 32 := Scalar.subi v901 v898
  let c1_i32_1195 : BitVec 32 := 1#32
  let v1807 : BitVec 32 := Scalar.divsi v1805 c1_i32_1195
  let v1808 : BitVec 32 := Scalar.muli v1807 c1_i32_1195
  let v1809 : BitVec 32 := Scalar.addi v898 v1808
  let c1_i32_1197 : BitVec 32 := 1#32
  let arg13 : BitVec 32 := Scf.iv v1809 c1_i32_1197 k3_t62
  let v1840 : Index := Scalar.indexCast arg13
  let c48_1209 : Index := 48#32
  ![v1840.toNat, 48]
@[reducible] def k3_t63_loop (i : grid3.Coords) (v606 : BitVec 32) (v612 : BitVec 32) : Scf.Loop 32 :=
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let c256_i32_500 : BitVec 32 := 256#32
  let c0_i32_499 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c0_i32_498 : BitVec 32 := 0#32
  let v908 : BitVec 32 := Scalar.subi v616 c0_i32_498
  let v909 : BitVec 32 := Scalar.maxsi c0_i32_499 v908
  let v910 : BitVec 32 := Scalar.minsi c256_i32_500 v909
  let v1805 : BitVec 32 := Scalar.subi v910 v907
  let c1_i32_1195 : BitVec 32 := 1#32
  let v1807 : BitVec 32 := Scalar.divsi v1805 c1_i32_1195
  let v1808 : BitVec 32 := Scalar.muli v1807 c1_i32_1195
  let v1809 : BitVec 32 := Scalar.addi v907 v1808
  let c1_i32_1196 : BitVec 32 := 1#32
  ⟨v907, v1809, c1_i32_1196⟩
def k3_cond32 (i : grid3.Coords) (v606 : BitVec 32) (v612 : BitVec 32) : BitVec 1 :=
  let c256_i32_500 : BitVec 32 := 256#32
  let c0_i32_499 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v614 : BitVec 32 := Scalar.subi v613 v3
  let v615 : BitVec 32 := Scalar.maxsi c0_i32_268 v614
  let v616 : BitVec 32 := Scalar.minsi c1024_i32_269 v615
  let c0_i32_498 : BitVec 32 := 0#32
  let v908 : BitVec 32 := Scalar.subi v616 c0_i32_498
  let v909 : BitVec 32 := Scalar.maxsi c0_i32_499 v908
  let v910 : BitVec 32 := Scalar.minsi c256_i32_500 v909
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let v911 : BitVec 1 := Scalar.cmpi .sgt v910 v907
  let v912 : BitVec 32 := Scalar.extui v911
  let c0_i32_501 : BitVec 32 := 0#32
  let v913 : BitVec 1 := Scalar.cmpi .ne v912 c0_i32_501
  v913

def k3_off250 (i : grid3.Coords) (v606 : BitVec 32) (v612 : BitVec 32) (k3_t63 : Fin (k3_t63_loop i v606 v612).trips) : Fin 2 → Nat :=
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let c1_i32_1196 : BitVec 32 := 1#32
  let arg13 : BitVec 32 := Scf.iv v907 c1_i32_1196 k3_t63
  let v1828 : Index := Scalar.indexCast arg13
  let c64 : Index := 64#32
  ![v1828.toNat, 64]
def k3_off251 (i : grid3.Coords) (v606 : BitVec 32) (v612 : BitVec 32) (k3_t63 : Fin (k3_t63_loop i v606 v612).trips) : Fin 2 → Nat :=
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let c1_i32_1196 : BitVec 32 := 1#32
  let arg13 : BitVec 32 := Scf.iv v907 c1_i32_1196 k3_t63
  let v1832 : Index := Scalar.indexCast arg13
  let c80 : Index := 80#32
  ![v1832.toNat, 80]
def k3_off252 (i : grid3.Coords) (v606 : BitVec 32) (v612 : BitVec 32) (k3_t63 : Fin (k3_t63_loop i v606 v612).trips) : Fin 2 → Nat :=
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let c1_i32_1196 : BitVec 32 := 1#32
  let arg13 : BitVec 32 := Scf.iv v907 c1_i32_1196 k3_t63
  let v1836 : Index := Scalar.indexCast arg13
  let c96 : Index := 96#32
  ![v1836.toNat, 96]
def k3_off253 (i : grid3.Coords) (v606 : BitVec 32) (v612 : BitVec 32) (k3_t63 : Fin (k3_t63_loop i v606 v612).trips) : Fin 2 → Nat :=
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let c1_i32_1196 : BitVec 32 := 1#32
  let arg13 : BitVec 32 := Scf.iv v907 c1_i32_1196 k3_t63
  let v1840 : Index := Scalar.indexCast arg13
  let c112 : Index := 112#32
  ![v1840.toNat, 112]
@[reducible] def k3_t64_loop (i : grid3.Coords) (v606 : BitVec 32) (v612 : BitVec 32) : Scf.Loop 32 :=
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let c256_i32_500 : BitVec 32 := 256#32
  let c0_i32_499 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c0_i32_498 : BitVec 32 := 0#32
  let v908 : BitVec 32 := Scalar.subi v616 c0_i32_498
  let v909 : BitVec 32 := Scalar.maxsi c0_i32_499 v908
  let v910 : BitVec 32 := Scalar.minsi c256_i32_500 v909
  let v1805 : BitVec 32 := Scalar.subi v910 v907
  let c1_i32_1195 : BitVec 32 := 1#32
  let v1807 : BitVec 32 := Scalar.divsi v1805 c1_i32_1195
  let v1808 : BitVec 32 := Scalar.muli v1807 c1_i32_1195
  let v1809 : BitVec 32 := Scalar.addi v907 v1808
  let v1806 : BitVec 32 := Scalar.addi v907 v1805
  let c1_i32_1197 : BitVec 32 := 1#32
  ⟨v1809, v1806, c1_i32_1197⟩
def k3_off254 (i : grid3.Coords) (v606 : BitVec 32) (v612 : BitVec 32) (k3_t64 : Fin (k3_t64_loop i v606 v612).trips) : Fin 2 → Nat :=
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let c256_i32_500 : BitVec 32 := 256#32
  let c0_i32_499 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c0_i32_498 : BitVec 32 := 0#32
  let v908 : BitVec 32 := Scalar.subi v616 c0_i32_498
  let v909 : BitVec 32 := Scalar.maxsi c0_i32_499 v908
  let v910 : BitVec 32 := Scalar.minsi c256_i32_500 v909
  let v1805 : BitVec 32 := Scalar.subi v910 v907
  let c1_i32_1195 : BitVec 32 := 1#32
  let v1807 : BitVec 32 := Scalar.divsi v1805 c1_i32_1195
  let v1808 : BitVec 32 := Scalar.muli v1807 c1_i32_1195
  let v1809 : BitVec 32 := Scalar.addi v907 v1808
  let c1_i32_1197 : BitVec 32 := 1#32
  let arg13 : BitVec 32 := Scf.iv v1809 c1_i32_1197 k3_t64
  let v1828 : Index := Scalar.indexCast arg13
  let c64 : Index := 64#32
  ![v1828.toNat, 64]
def k3_off255 (i : grid3.Coords) (v606 : BitVec 32) (v612 : BitVec 32) (k3_t64 : Fin (k3_t64_loop i v606 v612).trips) : Fin 2 → Nat :=
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let c256_i32_500 : BitVec 32 := 256#32
  let c0_i32_499 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c0_i32_498 : BitVec 32 := 0#32
  let v908 : BitVec 32 := Scalar.subi v616 c0_i32_498
  let v909 : BitVec 32 := Scalar.maxsi c0_i32_499 v908
  let v910 : BitVec 32 := Scalar.minsi c256_i32_500 v909
  let v1805 : BitVec 32 := Scalar.subi v910 v907
  let c1_i32_1195 : BitVec 32 := 1#32
  let v1807 : BitVec 32 := Scalar.divsi v1805 c1_i32_1195
  let v1808 : BitVec 32 := Scalar.muli v1807 c1_i32_1195
  let v1809 : BitVec 32 := Scalar.addi v907 v1808
  let c1_i32_1197 : BitVec 32 := 1#32
  let arg13 : BitVec 32 := Scf.iv v1809 c1_i32_1197 k3_t64
  let v1832 : Index := Scalar.indexCast arg13
  let c80 : Index := 80#32
  ![v1832.toNat, 80]
def k3_off256 (i : grid3.Coords) (v606 : BitVec 32) (v612 : BitVec 32) (k3_t64 : Fin (k3_t64_loop i v606 v612).trips) : Fin 2 → Nat :=
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let c256_i32_500 : BitVec 32 := 256#32
  let c0_i32_499 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c0_i32_498 : BitVec 32 := 0#32
  let v908 : BitVec 32 := Scalar.subi v616 c0_i32_498
  let v909 : BitVec 32 := Scalar.maxsi c0_i32_499 v908
  let v910 : BitVec 32 := Scalar.minsi c256_i32_500 v909
  let v1805 : BitVec 32 := Scalar.subi v910 v907
  let c1_i32_1195 : BitVec 32 := 1#32
  let v1807 : BitVec 32 := Scalar.divsi v1805 c1_i32_1195
  let v1808 : BitVec 32 := Scalar.muli v1807 c1_i32_1195
  let v1809 : BitVec 32 := Scalar.addi v907 v1808
  let c1_i32_1197 : BitVec 32 := 1#32
  let arg13 : BitVec 32 := Scf.iv v1809 c1_i32_1197 k3_t64
  let v1836 : Index := Scalar.indexCast arg13
  let c96 : Index := 96#32
  ![v1836.toNat, 96]
def k3_off257 (i : grid3.Coords) (v606 : BitVec 32) (v612 : BitVec 32) (k3_t64 : Fin (k3_t64_loop i v606 v612).trips) : Fin 2 → Nat :=
  let c256_i32_497 : BitVec 32 := 256#32
  let c0_i32_496 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c0_i32_495 : BitVec 32 := 0#32
  let v905 : BitVec 32 := Scalar.subi v610 c0_i32_495
  let v906 : BitVec 32 := Scalar.maxsi c0_i32_496 v905
  let v907 : BitVec 32 := Scalar.minsi c256_i32_497 v906
  let c256_i32_500 : BitVec 32 := 256#32
  let c0_i32_499 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c0_i32_498 : BitVec 32 := 0#32
  let v908 : BitVec 32 := Scalar.subi v616 c0_i32_498
  let v909 : BitVec 32 := Scalar.maxsi c0_i32_499 v908
  let v910 : BitVec 32 := Scalar.minsi c256_i32_500 v909
  let v1805 : BitVec 32 := Scalar.subi v910 v907
  let c1_i32_1195 : BitVec 32 := 1#32
  let v1807 : BitVec 32 := Scalar.divsi v1805 c1_i32_1195
  let v1808 : BitVec 32 := Scalar.muli v1807 c1_i32_1195
  let v1809 : BitVec 32 := Scalar.addi v907 v1808
  let c1_i32_1197 : BitVec 32 := 1#32
  let arg13 : BitVec 32 := Scf.iv v1809 c1_i32_1197 k3_t64
  let v1840 : Index := Scalar.indexCast arg13
  let c112 : Index := 112#32
  ![v1840.toNat, 112]
def k3_off258 (i : grid3.Coords) (c512_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v914 : BitVec 32 := Scalar.addi v2 c512_i32
  let c0_i32_502 : BitVec 32 := 0#32
  ![v914.toNat, 0]
@[reducible] def k3_t65_loop (i : grid3.Coords) (v266 : BitVec 32) (v271 : BitVec 32) : Scf.Loop 32 :=
  let c256_i32_509 : BitVec 32 := 256#32
  let c0_i32_508 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let c256_i32_512 : BitVec 32 := 256#32
  let c0_i32_511 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c256_i32_510 : BitVec 32 := 256#32
  let v923 : BitVec 32 := Scalar.subi v274 c256_i32_510
  let v924 : BitVec 32 := Scalar.maxsi c0_i32_511 v923
  let v925 : BitVec 32 := Scalar.minsi c256_i32_512 v924
  let v1805 : BitVec 32 := Scalar.subi v925 v922
  let c1_i32_1195 : BitVec 32 := 1#32
  let v1807 : BitVec 32 := Scalar.divsi v1805 c1_i32_1195
  let v1808 : BitVec 32 := Scalar.muli v1807 c1_i32_1195
  let v1809 : BitVec 32 := Scalar.addi v922 v1808
  let c1_i32_1196 : BitVec 32 := 1#32
  ⟨v922, v1809, c1_i32_1196⟩
def k3_cond33 (i : grid3.Coords) (v266 : BitVec 32) (v271 : BitVec 32) : BitVec 1 :=
  let c256_i32_512 : BitVec 32 := 256#32
  let c0_i32_511 : BitVec 32 := 0#32
  let c1024_i32_114 : BitVec 32 := 1024#32
  let c0_i32_113 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v272 : BitVec 32 := Scalar.subi v271 v3
  let v273 : BitVec 32 := Scalar.maxsi c0_i32_113 v272
  let v274 : BitVec 32 := Scalar.minsi c1024_i32_114 v273
  let c256_i32_510 : BitVec 32 := 256#32
  let v923 : BitVec 32 := Scalar.subi v274 c256_i32_510
  let v924 : BitVec 32 := Scalar.maxsi c0_i32_511 v923
  let v925 : BitVec 32 := Scalar.minsi c256_i32_512 v924
  let c256_i32_509 : BitVec 32 := 256#32
  let c0_i32_508 : BitVec 32 := 0#32
  let c1024_i32_112 : BitVec 32 := 1024#32
  let c0_i32_111 : BitVec 32 := 0#32
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let v926 : BitVec 1 := Scalar.cmpi .sgt v925 v922
  let v927 : BitVec 32 := Scalar.extui v926
  let c0_i32_513 : BitVec 32 := 0#32
  let v928 : BitVec 1 := Scalar.cmpi .ne v927 c0_i32_513
  v928

def k3_off259 (i : grid3.Coords) (v266 : BitVec 32) (v271 : BitVec 32) (k3_t65 : Fin (k3_t65_loop i v266 v271).trips) : Fin 2 → Nat :=
  let c256_i32_509 : BitVec 32 := 256#32
  let c0_i32_508 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let c1_i32_1196 : BitVec 32 := 1#32
  let arg13 : BitVec 32 := Scf.iv v922 c1_i32_1196 k3_t65
  let v1828 : Index := Scalar.indexCast arg13
  let c0_1206 : Index := 0#32
  ![v1828.toNat, 0]
def k3_off260 (i : grid3.Coords) (v266 : BitVec 32) (v271 : BitVec 32) (k3_t65 : Fin (k3_t65_loop i v266 v271).trips) : Fin 2 → Nat :=
  let c256_i32_509 : BitVec 32 := 256#32
  let c0_i32_508 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let c1_i32_1196 : BitVec 32 := 1#32
  let arg13 : BitVec 32 := Scf.iv v922 c1_i32_1196 k3_t65
  let v1832 : Index := Scalar.indexCast arg13
  let c16_1207 : Index := 16#32
  ![v1832.toNat, 16]
def k3_off261 (i : grid3.Coords) (v266 : BitVec 32) (v271 : BitVec 32) (k3_t65 : Fin (k3_t65_loop i v266 v271).trips) : Fin 2 → Nat :=
  let c256_i32_509 : BitVec 32 := 256#32
  let c0_i32_508 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let c1_i32_1196 : BitVec 32 := 1#32
  let arg13 : BitVec 32 := Scf.iv v922 c1_i32_1196 k3_t65
  let v1836 : Index := Scalar.indexCast arg13
  let c32_1208 : Index := 32#32
  ![v1836.toNat, 32]
def k3_off262 (i : grid3.Coords) (v266 : BitVec 32) (v271 : BitVec 32) (k3_t65 : Fin (k3_t65_loop i v266 v271).trips) : Fin 2 → Nat :=
  let c256_i32_509 : BitVec 32 := 256#32
  let c0_i32_508 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let c1_i32_1196 : BitVec 32 := 1#32
  let arg13 : BitVec 32 := Scf.iv v922 c1_i32_1196 k3_t65
  let v1840 : Index := Scalar.indexCast arg13
  let c48_1209 : Index := 48#32
  ![v1840.toNat, 48]
@[reducible] def k3_t66_loop (i : grid3.Coords) (v266 : BitVec 32) (v271 : BitVec 32) : Scf.Loop 32 :=
  let c256_i32_509 : BitVec 32 := 256#32
  let c0_i32_508 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let c256_i32_512 : BitVec 32 := 256#32
  let c0_i32_511 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c256_i32_510 : BitVec 32 := 256#32
  let v923 : BitVec 32 := Scalar.subi v274 c256_i32_510
  let v924 : BitVec 32 := Scalar.maxsi c0_i32_511 v923
  let v925 : BitVec 32 := Scalar.minsi c256_i32_512 v924
  let v1805 : BitVec 32 := Scalar.subi v925 v922
  let c1_i32_1195 : BitVec 32 := 1#32
  let v1807 : BitVec 32 := Scalar.divsi v1805 c1_i32_1195
  let v1808 : BitVec 32 := Scalar.muli v1807 c1_i32_1195
  let v1809 : BitVec 32 := Scalar.addi v922 v1808
  let v1806 : BitVec 32 := Scalar.addi v922 v1805
  let c1_i32_1197 : BitVec 32 := 1#32
  ⟨v1809, v1806, c1_i32_1197⟩
def k3_off263 (i : grid3.Coords) (v266 : BitVec 32) (v271 : BitVec 32) (k3_t66 : Fin (k3_t66_loop i v266 v271).trips) : Fin 2 → Nat :=
  let c256_i32_509 : BitVec 32 := 256#32
  let c0_i32_508 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let c256_i32_512 : BitVec 32 := 256#32
  let c0_i32_511 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c256_i32_510 : BitVec 32 := 256#32
  let v923 : BitVec 32 := Scalar.subi v274 c256_i32_510
  let v924 : BitVec 32 := Scalar.maxsi c0_i32_511 v923
  let v925 : BitVec 32 := Scalar.minsi c256_i32_512 v924
  let v1805 : BitVec 32 := Scalar.subi v925 v922
  let c1_i32_1195 : BitVec 32 := 1#32
  let v1807 : BitVec 32 := Scalar.divsi v1805 c1_i32_1195
  let v1808 : BitVec 32 := Scalar.muli v1807 c1_i32_1195
  let v1809 : BitVec 32 := Scalar.addi v922 v1808
  let c1_i32_1197 : BitVec 32 := 1#32
  let arg13 : BitVec 32 := Scf.iv v1809 c1_i32_1197 k3_t66
  let v1828 : Index := Scalar.indexCast arg13
  let c0_1206 : Index := 0#32
  ![v1828.toNat, 0]
def k3_off264 (i : grid3.Coords) (v266 : BitVec 32) (v271 : BitVec 32) (k3_t66 : Fin (k3_t66_loop i v266 v271).trips) : Fin 2 → Nat :=
  let c256_i32_509 : BitVec 32 := 256#32
  let c0_i32_508 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let c256_i32_512 : BitVec 32 := 256#32
  let c0_i32_511 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c256_i32_510 : BitVec 32 := 256#32
  let v923 : BitVec 32 := Scalar.subi v274 c256_i32_510
  let v924 : BitVec 32 := Scalar.maxsi c0_i32_511 v923
  let v925 : BitVec 32 := Scalar.minsi c256_i32_512 v924
  let v1805 : BitVec 32 := Scalar.subi v925 v922
  let c1_i32_1195 : BitVec 32 := 1#32
  let v1807 : BitVec 32 := Scalar.divsi v1805 c1_i32_1195
  let v1808 : BitVec 32 := Scalar.muli v1807 c1_i32_1195
  let v1809 : BitVec 32 := Scalar.addi v922 v1808
  let c1_i32_1197 : BitVec 32 := 1#32
  let arg13 : BitVec 32 := Scf.iv v1809 c1_i32_1197 k3_t66
  let v1832 : Index := Scalar.indexCast arg13
  let c16_1207 : Index := 16#32
  ![v1832.toNat, 16]
def k3_off265 (i : grid3.Coords) (v266 : BitVec 32) (v271 : BitVec 32) (k3_t66 : Fin (k3_t66_loop i v266 v271).trips) : Fin 2 → Nat :=
  let c256_i32_509 : BitVec 32 := 256#32
  let c0_i32_508 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let c256_i32_512 : BitVec 32 := 256#32
  let c0_i32_511 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c256_i32_510 : BitVec 32 := 256#32
  let v923 : BitVec 32 := Scalar.subi v274 c256_i32_510
  let v924 : BitVec 32 := Scalar.maxsi c0_i32_511 v923
  let v925 : BitVec 32 := Scalar.minsi c256_i32_512 v924
  let v1805 : BitVec 32 := Scalar.subi v925 v922
  let c1_i32_1195 : BitVec 32 := 1#32
  let v1807 : BitVec 32 := Scalar.divsi v1805 c1_i32_1195
  let v1808 : BitVec 32 := Scalar.muli v1807 c1_i32_1195
  let v1809 : BitVec 32 := Scalar.addi v922 v1808
  let c1_i32_1197 : BitVec 32 := 1#32
  let arg13 : BitVec 32 := Scf.iv v1809 c1_i32_1197 k3_t66
  let v1836 : Index := Scalar.indexCast arg13
  let c32_1208 : Index := 32#32
  ![v1836.toNat, 32]
def k3_off266 (i : grid3.Coords) (v266 : BitVec 32) (v271 : BitVec 32) (k3_t66 : Fin (k3_t66_loop i v266 v271).trips) : Fin 2 → Nat :=
  let c256_i32_509 : BitVec 32 := 256#32
  let c0_i32_508 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c256_i32_507 : BitVec 32 := 256#32
  let v920 : BitVec 32 := Scalar.subi v269 c256_i32_507
  let v921 : BitVec 32 := Scalar.maxsi c0_i32_508 v920
  let v922 : BitVec 32 := Scalar.minsi c256_i32_509 v921
  let c256_i32_512 : BitVec 32 := 256#32
  let c0_i32_511 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c256_i32_510 : BitVec 32 := 256#32
  let v923 : BitVec 32 := Scalar.subi v274 c256_i32_510
  let v924 : BitVec 32 := Scalar.maxsi c0_i32_511 v923
  let v925 : BitVec 32 := Scalar.minsi c256_i32_512 v924
  let v1805 : BitVec 32 := Scalar.subi v925 v922
  let c1_i32_1195 : BitVec 32 := 1#32
  let v1807 : BitVec 32 := Scalar.divsi v1805 c1_i32_1195
  let v1808 : BitVec 32 := Scalar.muli v1807 c1_i32_1195
  let v1809 : BitVec 32 := Scalar.addi v922 v1808
  let c1_i32_1197 : BitVec 32 := 1#32
  let arg13 : BitVec 32 := Scf.iv v1809 c1_i32_1197 k3_t66
  let v1840 : Index := Scalar.indexCast arg13
  let c48_1209 : Index := 48#32
  ![v1840.toNat, 48]
@[reducible] def k3_t67_loop (i : grid3.Coords) (v276 : BitVec 32) (v282 : BitVec 32) : Scf.Loop 32 :=
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let c256_i32_519 : BitVec 32 := 256#32
  let c0_i32_518 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c256_i32_517 : BitVec 32 := 256#32
  let v932 : BitVec 32 := Scalar.subi v286 c256_i32_517
  let v933 : BitVec 32 := Scalar.maxsi c0_i32_518 v932
  let v934 : BitVec 32 := Scalar.minsi c256_i32_519 v933
  let v1805 : BitVec 32 := Scalar.subi v934 v931
  let c1_i32_1195 : BitVec 32 := 1#32
  let v1807 : BitVec 32 := Scalar.divsi v1805 c1_i32_1195
  let v1808 : BitVec 32 := Scalar.muli v1807 c1_i32_1195
  let v1809 : BitVec 32 := Scalar.addi v931 v1808
  let c1_i32_1196 : BitVec 32 := 1#32
  ⟨v931, v1809, c1_i32_1196⟩
def k3_cond34 (i : grid3.Coords) (v276 : BitVec 32) (v282 : BitVec 32) : BitVec 1 :=
  let c256_i32_519 : BitVec 32 := 256#32
  let c0_i32_518 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v284 : BitVec 32 := Scalar.subi v283 v3
  let v285 : BitVec 32 := Scalar.maxsi c0_i32_118 v284
  let v286 : BitVec 32 := Scalar.minsi c1024_i32_119 v285
  let c256_i32_517 : BitVec 32 := 256#32
  let v932 : BitVec 32 := Scalar.subi v286 c256_i32_517
  let v933 : BitVec 32 := Scalar.maxsi c0_i32_518 v932
  let v934 : BitVec 32 := Scalar.minsi c256_i32_519 v933
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let v935 : BitVec 1 := Scalar.cmpi .sgt v934 v931
  let v936 : BitVec 32 := Scalar.extui v935
  let c0_i32_520 : BitVec 32 := 0#32
  let v937 : BitVec 1 := Scalar.cmpi .ne v936 c0_i32_520
  v937

def k3_off267 (i : grid3.Coords) (v276 : BitVec 32) (v282 : BitVec 32) (k3_t67 : Fin (k3_t67_loop i v276 v282).trips) : Fin 2 → Nat :=
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let c1_i32_1196 : BitVec 32 := 1#32
  let arg13 : BitVec 32 := Scf.iv v931 c1_i32_1196 k3_t67
  let v1828 : Index := Scalar.indexCast arg13
  let c64 : Index := 64#32
  ![v1828.toNat, 64]
def k3_off268 (i : grid3.Coords) (v276 : BitVec 32) (v282 : BitVec 32) (k3_t67 : Fin (k3_t67_loop i v276 v282).trips) : Fin 2 → Nat :=
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let c1_i32_1196 : BitVec 32 := 1#32
  let arg13 : BitVec 32 := Scf.iv v931 c1_i32_1196 k3_t67
  let v1832 : Index := Scalar.indexCast arg13
  let c80 : Index := 80#32
  ![v1832.toNat, 80]
def k3_off269 (i : grid3.Coords) (v276 : BitVec 32) (v282 : BitVec 32) (k3_t67 : Fin (k3_t67_loop i v276 v282).trips) : Fin 2 → Nat :=
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let c1_i32_1196 : BitVec 32 := 1#32
  let arg13 : BitVec 32 := Scf.iv v931 c1_i32_1196 k3_t67
  let v1836 : Index := Scalar.indexCast arg13
  let c96 : Index := 96#32
  ![v1836.toNat, 96]
def k3_off270 (i : grid3.Coords) (v276 : BitVec 32) (v282 : BitVec 32) (k3_t67 : Fin (k3_t67_loop i v276 v282).trips) : Fin 2 → Nat :=
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let c1_i32_1196 : BitVec 32 := 1#32
  let arg13 : BitVec 32 := Scf.iv v931 c1_i32_1196 k3_t67
  let v1840 : Index := Scalar.indexCast arg13
  let c112 : Index := 112#32
  ![v1840.toNat, 112]
@[reducible] def k3_t68_loop (i : grid3.Coords) (v276 : BitVec 32) (v282 : BitVec 32) : Scf.Loop 32 :=
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let c256_i32_519 : BitVec 32 := 256#32
  let c0_i32_518 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c256_i32_517 : BitVec 32 := 256#32
  let v932 : BitVec 32 := Scalar.subi v286 c256_i32_517
  let v933 : BitVec 32 := Scalar.maxsi c0_i32_518 v932
  let v934 : BitVec 32 := Scalar.minsi c256_i32_519 v933
  let v1805 : BitVec 32 := Scalar.subi v934 v931
  let c1_i32_1195 : BitVec 32 := 1#32
  let v1807 : BitVec 32 := Scalar.divsi v1805 c1_i32_1195
  let v1808 : BitVec 32 := Scalar.muli v1807 c1_i32_1195
  let v1809 : BitVec 32 := Scalar.addi v931 v1808
  let v1806 : BitVec 32 := Scalar.addi v931 v1805
  let c1_i32_1197 : BitVec 32 := 1#32
  ⟨v1809, v1806, c1_i32_1197⟩
def k3_off271 (i : grid3.Coords) (v276 : BitVec 32) (v282 : BitVec 32) (k3_t68 : Fin (k3_t68_loop i v276 v282).trips) : Fin 2 → Nat :=
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let c256_i32_519 : BitVec 32 := 256#32
  let c0_i32_518 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c256_i32_517 : BitVec 32 := 256#32
  let v932 : BitVec 32 := Scalar.subi v286 c256_i32_517
  let v933 : BitVec 32 := Scalar.maxsi c0_i32_518 v932
  let v934 : BitVec 32 := Scalar.minsi c256_i32_519 v933
  let v1805 : BitVec 32 := Scalar.subi v934 v931
  let c1_i32_1195 : BitVec 32 := 1#32
  let v1807 : BitVec 32 := Scalar.divsi v1805 c1_i32_1195
  let v1808 : BitVec 32 := Scalar.muli v1807 c1_i32_1195
  let v1809 : BitVec 32 := Scalar.addi v931 v1808
  let c1_i32_1197 : BitVec 32 := 1#32
  let arg13 : BitVec 32 := Scf.iv v1809 c1_i32_1197 k3_t68
  let v1828 : Index := Scalar.indexCast arg13
  let c64 : Index := 64#32
  ![v1828.toNat, 64]
def k3_off272 (i : grid3.Coords) (v276 : BitVec 32) (v282 : BitVec 32) (k3_t68 : Fin (k3_t68_loop i v276 v282).trips) : Fin 2 → Nat :=
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let c256_i32_519 : BitVec 32 := 256#32
  let c0_i32_518 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c256_i32_517 : BitVec 32 := 256#32
  let v932 : BitVec 32 := Scalar.subi v286 c256_i32_517
  let v933 : BitVec 32 := Scalar.maxsi c0_i32_518 v932
  let v934 : BitVec 32 := Scalar.minsi c256_i32_519 v933
  let v1805 : BitVec 32 := Scalar.subi v934 v931
  let c1_i32_1195 : BitVec 32 := 1#32
  let v1807 : BitVec 32 := Scalar.divsi v1805 c1_i32_1195
  let v1808 : BitVec 32 := Scalar.muli v1807 c1_i32_1195
  let v1809 : BitVec 32 := Scalar.addi v931 v1808
  let c1_i32_1197 : BitVec 32 := 1#32
  let arg13 : BitVec 32 := Scf.iv v1809 c1_i32_1197 k3_t68
  let v1832 : Index := Scalar.indexCast arg13
  let c80 : Index := 80#32
  ![v1832.toNat, 80]
def k3_off273 (i : grid3.Coords) (v276 : BitVec 32) (v282 : BitVec 32) (k3_t68 : Fin (k3_t68_loop i v276 v282).trips) : Fin 2 → Nat :=
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let c256_i32_519 : BitVec 32 := 256#32
  let c0_i32_518 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c256_i32_517 : BitVec 32 := 256#32
  let v932 : BitVec 32 := Scalar.subi v286 c256_i32_517
  let v933 : BitVec 32 := Scalar.maxsi c0_i32_518 v932
  let v934 : BitVec 32 := Scalar.minsi c256_i32_519 v933
  let v1805 : BitVec 32 := Scalar.subi v934 v931
  let c1_i32_1195 : BitVec 32 := 1#32
  let v1807 : BitVec 32 := Scalar.divsi v1805 c1_i32_1195
  let v1808 : BitVec 32 := Scalar.muli v1807 c1_i32_1195
  let v1809 : BitVec 32 := Scalar.addi v931 v1808
  let c1_i32_1197 : BitVec 32 := 1#32
  let arg13 : BitVec 32 := Scf.iv v1809 c1_i32_1197 k3_t68
  let v1836 : Index := Scalar.indexCast arg13
  let c96 : Index := 96#32
  ![v1836.toNat, 96]
def k3_off274 (i : grid3.Coords) (v276 : BitVec 32) (v282 : BitVec 32) (k3_t68 : Fin (k3_t68_loop i v276 v282).trips) : Fin 2 → Nat :=
  let c256_i32_516 : BitVec 32 := 256#32
  let c0_i32_515 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c256_i32_514 : BitVec 32 := 256#32
  let v929 : BitVec 32 := Scalar.subi v280 c256_i32_514
  let v930 : BitVec 32 := Scalar.maxsi c0_i32_515 v929
  let v931 : BitVec 32 := Scalar.minsi c256_i32_516 v930
  let c256_i32_519 : BitVec 32 := 256#32
  let c0_i32_518 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c256_i32_517 : BitVec 32 := 256#32
  let v932 : BitVec 32 := Scalar.subi v286 c256_i32_517
  let v933 : BitVec 32 := Scalar.maxsi c0_i32_518 v932
  let v934 : BitVec 32 := Scalar.minsi c256_i32_519 v933
  let v1805 : BitVec 32 := Scalar.subi v934 v931
  let c1_i32_1195 : BitVec 32 := 1#32
  let v1807 : BitVec 32 := Scalar.divsi v1805 c1_i32_1195
  let v1808 : BitVec 32 := Scalar.muli v1807 c1_i32_1195
  let v1809 : BitVec 32 := Scalar.addi v931 v1808
  let c1_i32_1197 : BitVec 32 := 1#32
  let arg13 : BitVec 32 := Scf.iv v1809 c1_i32_1197 k3_t68
  let v1840 : Index := Scalar.indexCast arg13
  let c112 : Index := 112#32
  ![v1840.toNat, 112]
@[reducible] def k3_t69_loop (i : grid3.Coords) (v288 : BitVec 32) (v293 : BitVec 32) : Scf.Loop 32 :=
  let c256_i32_523 : BitVec 32 := 256#32
  let c0_i32_522 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let c256_i32_526 : BitVec 32 := 256#32
  let c0_i32_525 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c256_i32_524 : BitVec 32 := 256#32
  let v941 : BitVec 32 := Scalar.subi v296 c256_i32_524
  let v942 : BitVec 32 := Scalar.maxsi c0_i32_525 v941
  let v943 : BitVec 32 := Scalar.minsi c256_i32_526 v942
  let v1805 : BitVec 32 := Scalar.subi v943 v940
  let c1_i32_1195 : BitVec 32 := 1#32
  let v1807 : BitVec 32 := Scalar.divsi v1805 c1_i32_1195
  let v1808 : BitVec 32 := Scalar.muli v1807 c1_i32_1195
  let v1809 : BitVec 32 := Scalar.addi v940 v1808
  let c1_i32_1196 : BitVec 32 := 1#32
  ⟨v940, v1809, c1_i32_1196⟩
def k3_cond35 (i : grid3.Coords) (v288 : BitVec 32) (v293 : BitVec 32) : BitVec 1 :=
  let c256_i32_526 : BitVec 32 := 256#32
  let c0_i32_525 : BitVec 32 := 0#32
  let c1024_i32_123 : BitVec 32 := 1024#32
  let c0_i32_122 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v294 : BitVec 32 := Scalar.subi v293 v3
  let v295 : BitVec 32 := Scalar.maxsi c0_i32_122 v294
  let v296 : BitVec 32 := Scalar.minsi c1024_i32_123 v295
  let c256_i32_524 : BitVec 32 := 256#32
  let v941 : BitVec 32 := Scalar.subi v296 c256_i32_524
  let v942 : BitVec 32 := Scalar.maxsi c0_i32_525 v941
  let v943 : BitVec 32 := Scalar.minsi c256_i32_526 v942
  let c256_i32_523 : BitVec 32 := 256#32
  let c0_i32_522 : BitVec 32 := 0#32
  let c1024_i32_121 : BitVec 32 := 1024#32
  let c0_i32_120 : BitVec 32 := 0#32
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let v944 : BitVec 1 := Scalar.cmpi .sgt v943 v940
  let v945 : BitVec 32 := Scalar.extui v944
  let c0_i32_527 : BitVec 32 := 0#32
  let v946 : BitVec 1 := Scalar.cmpi .ne v945 c0_i32_527
  v946

def k3_off275 (i : grid3.Coords) (v288 : BitVec 32) (v293 : BitVec 32) (k3_t69 : Fin (k3_t69_loop i v288 v293).trips) : Fin 2 → Nat :=
  let c256_i32_523 : BitVec 32 := 256#32
  let c0_i32_522 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let c1_i32_1196 : BitVec 32 := 1#32
  let arg13 : BitVec 32 := Scf.iv v940 c1_i32_1196 k3_t69
  let v1828 : Index := Scalar.indexCast arg13
  let c0_1206 : Index := 0#32
  ![v1828.toNat, 0]
def k3_off276 (i : grid3.Coords) (v288 : BitVec 32) (v293 : BitVec 32) (k3_t69 : Fin (k3_t69_loop i v288 v293).trips) : Fin 2 → Nat :=
  let c256_i32_523 : BitVec 32 := 256#32
  let c0_i32_522 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let c1_i32_1196 : BitVec 32 := 1#32
  let arg13 : BitVec 32 := Scf.iv v940 c1_i32_1196 k3_t69
  let v1832 : Index := Scalar.indexCast arg13
  let c16_1207 : Index := 16#32
  ![v1832.toNat, 16]
def k3_off277 (i : grid3.Coords) (v288 : BitVec 32) (v293 : BitVec 32) (k3_t69 : Fin (k3_t69_loop i v288 v293).trips) : Fin 2 → Nat :=
  let c256_i32_523 : BitVec 32 := 256#32
  let c0_i32_522 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let c1_i32_1196 : BitVec 32 := 1#32
  let arg13 : BitVec 32 := Scf.iv v940 c1_i32_1196 k3_t69
  let v1836 : Index := Scalar.indexCast arg13
  let c32_1208 : Index := 32#32
  ![v1836.toNat, 32]
def k3_off278 (i : grid3.Coords) (v288 : BitVec 32) (v293 : BitVec 32) (k3_t69 : Fin (k3_t69_loop i v288 v293).trips) : Fin 2 → Nat :=
  let c256_i32_523 : BitVec 32 := 256#32
  let c0_i32_522 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let c1_i32_1196 : BitVec 32 := 1#32
  let arg13 : BitVec 32 := Scf.iv v940 c1_i32_1196 k3_t69
  let v1840 : Index := Scalar.indexCast arg13
  let c48_1209 : Index := 48#32
  ![v1840.toNat, 48]
@[reducible] def k3_t70_loop (i : grid3.Coords) (v288 : BitVec 32) (v293 : BitVec 32) : Scf.Loop 32 :=
  let c256_i32_523 : BitVec 32 := 256#32
  let c0_i32_522 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let c256_i32_526 : BitVec 32 := 256#32
  let c0_i32_525 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c256_i32_524 : BitVec 32 := 256#32
  let v941 : BitVec 32 := Scalar.subi v296 c256_i32_524
  let v942 : BitVec 32 := Scalar.maxsi c0_i32_525 v941
  let v943 : BitVec 32 := Scalar.minsi c256_i32_526 v942
  let v1805 : BitVec 32 := Scalar.subi v943 v940
  let c1_i32_1195 : BitVec 32 := 1#32
  let v1807 : BitVec 32 := Scalar.divsi v1805 c1_i32_1195
  let v1808 : BitVec 32 := Scalar.muli v1807 c1_i32_1195
  let v1809 : BitVec 32 := Scalar.addi v940 v1808
  let v1806 : BitVec 32 := Scalar.addi v940 v1805
  let c1_i32_1197 : BitVec 32 := 1#32
  ⟨v1809, v1806, c1_i32_1197⟩
def k3_off279 (i : grid3.Coords) (v288 : BitVec 32) (v293 : BitVec 32) (k3_t70 : Fin (k3_t70_loop i v288 v293).trips) : Fin 2 → Nat :=
  let c256_i32_523 : BitVec 32 := 256#32
  let c0_i32_522 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let c256_i32_526 : BitVec 32 := 256#32
  let c0_i32_525 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c256_i32_524 : BitVec 32 := 256#32
  let v941 : BitVec 32 := Scalar.subi v296 c256_i32_524
  let v942 : BitVec 32 := Scalar.maxsi c0_i32_525 v941
  let v943 : BitVec 32 := Scalar.minsi c256_i32_526 v942
  let v1805 : BitVec 32 := Scalar.subi v943 v940
  let c1_i32_1195 : BitVec 32 := 1#32
  let v1807 : BitVec 32 := Scalar.divsi v1805 c1_i32_1195
  let v1808 : BitVec 32 := Scalar.muli v1807 c1_i32_1195
  let v1809 : BitVec 32 := Scalar.addi v940 v1808
  let c1_i32_1197 : BitVec 32 := 1#32
  let arg13 : BitVec 32 := Scf.iv v1809 c1_i32_1197 k3_t70
  let v1828 : Index := Scalar.indexCast arg13
  let c0_1206 : Index := 0#32
  ![v1828.toNat, 0]
def k3_off280 (i : grid3.Coords) (v288 : BitVec 32) (v293 : BitVec 32) (k3_t70 : Fin (k3_t70_loop i v288 v293).trips) : Fin 2 → Nat :=
  let c256_i32_523 : BitVec 32 := 256#32
  let c0_i32_522 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let c256_i32_526 : BitVec 32 := 256#32
  let c0_i32_525 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c256_i32_524 : BitVec 32 := 256#32
  let v941 : BitVec 32 := Scalar.subi v296 c256_i32_524
  let v942 : BitVec 32 := Scalar.maxsi c0_i32_525 v941
  let v943 : BitVec 32 := Scalar.minsi c256_i32_526 v942
  let v1805 : BitVec 32 := Scalar.subi v943 v940
  let c1_i32_1195 : BitVec 32 := 1#32
  let v1807 : BitVec 32 := Scalar.divsi v1805 c1_i32_1195
  let v1808 : BitVec 32 := Scalar.muli v1807 c1_i32_1195
  let v1809 : BitVec 32 := Scalar.addi v940 v1808
  let c1_i32_1197 : BitVec 32 := 1#32
  let arg13 : BitVec 32 := Scf.iv v1809 c1_i32_1197 k3_t70
  let v1832 : Index := Scalar.indexCast arg13
  let c16_1207 : Index := 16#32
  ![v1832.toNat, 16]
def k3_off281 (i : grid3.Coords) (v288 : BitVec 32) (v293 : BitVec 32) (k3_t70 : Fin (k3_t70_loop i v288 v293).trips) : Fin 2 → Nat :=
  let c256_i32_523 : BitVec 32 := 256#32
  let c0_i32_522 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let c256_i32_526 : BitVec 32 := 256#32
  let c0_i32_525 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c256_i32_524 : BitVec 32 := 256#32
  let v941 : BitVec 32 := Scalar.subi v296 c256_i32_524
  let v942 : BitVec 32 := Scalar.maxsi c0_i32_525 v941
  let v943 : BitVec 32 := Scalar.minsi c256_i32_526 v942
  let v1805 : BitVec 32 := Scalar.subi v943 v940
  let c1_i32_1195 : BitVec 32 := 1#32
  let v1807 : BitVec 32 := Scalar.divsi v1805 c1_i32_1195
  let v1808 : BitVec 32 := Scalar.muli v1807 c1_i32_1195
  let v1809 : BitVec 32 := Scalar.addi v940 v1808
  let c1_i32_1197 : BitVec 32 := 1#32
  let arg13 : BitVec 32 := Scf.iv v1809 c1_i32_1197 k3_t70
  let v1836 : Index := Scalar.indexCast arg13
  let c32_1208 : Index := 32#32
  ![v1836.toNat, 32]
def k3_off282 (i : grid3.Coords) (v288 : BitVec 32) (v293 : BitVec 32) (k3_t70 : Fin (k3_t70_loop i v288 v293).trips) : Fin 2 → Nat :=
  let c256_i32_523 : BitVec 32 := 256#32
  let c0_i32_522 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c256_i32_521 : BitVec 32 := 256#32
  let v938 : BitVec 32 := Scalar.subi v291 c256_i32_521
  let v939 : BitVec 32 := Scalar.maxsi c0_i32_522 v938
  let v940 : BitVec 32 := Scalar.minsi c256_i32_523 v939
  let c256_i32_526 : BitVec 32 := 256#32
  let c0_i32_525 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c256_i32_524 : BitVec 32 := 256#32
  let v941 : BitVec 32 := Scalar.subi v296 c256_i32_524
  let v942 : BitVec 32 := Scalar.maxsi c0_i32_525 v941
  let v943 : BitVec 32 := Scalar.minsi c256_i32_526 v942
  let v1805 : BitVec 32 := Scalar.subi v943 v940
  let c1_i32_1195 : BitVec 32 := 1#32
  let v1807 : BitVec 32 := Scalar.divsi v1805 c1_i32_1195
  let v1808 : BitVec 32 := Scalar.muli v1807 c1_i32_1195
  let v1809 : BitVec 32 := Scalar.addi v940 v1808
  let c1_i32_1197 : BitVec 32 := 1#32
  let arg13 : BitVec 32 := Scf.iv v1809 c1_i32_1197 k3_t70
  let v1840 : Index := Scalar.indexCast arg13
  let c48_1209 : Index := 48#32
  ![v1840.toNat, 48]
@[reducible] def k3_t71_loop (i : grid3.Coords) (v298 : BitVec 32) (v304 : BitVec 32) : Scf.Loop 32 :=
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let c256_i32_533 : BitVec 32 := 256#32
  let c0_i32_532 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c256_i32_531 : BitVec 32 := 256#32
  let v950 : BitVec 32 := Scalar.subi v308 c256_i32_531
  let v951 : BitVec 32 := Scalar.maxsi c0_i32_532 v950
  let v952 : BitVec 32 := Scalar.minsi c256_i32_533 v951
  let v1805 : BitVec 32 := Scalar.subi v952 v949
  let c1_i32_1195 : BitVec 32 := 1#32
  let v1807 : BitVec 32 := Scalar.divsi v1805 c1_i32_1195
  let v1808 : BitVec 32 := Scalar.muli v1807 c1_i32_1195
  let v1809 : BitVec 32 := Scalar.addi v949 v1808
  let c1_i32_1196 : BitVec 32 := 1#32
  ⟨v949, v1809, c1_i32_1196⟩
def k3_cond36 (i : grid3.Coords) (v298 : BitVec 32) (v304 : BitVec 32) : BitVec 1 :=
  let c256_i32_533 : BitVec 32 := 256#32
  let c0_i32_532 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v306 : BitVec 32 := Scalar.subi v305 v3
  let v307 : BitVec 32 := Scalar.maxsi c0_i32_128 v306
  let v308 : BitVec 32 := Scalar.minsi c1024_i32_129 v307
  let c256_i32_531 : BitVec 32 := 256#32
  let v950 : BitVec 32 := Scalar.subi v308 c256_i32_531
  let v951 : BitVec 32 := Scalar.maxsi c0_i32_532 v950
  let v952 : BitVec 32 := Scalar.minsi c256_i32_533 v951
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let v953 : BitVec 1 := Scalar.cmpi .sgt v952 v949
  let v954 : BitVec 32 := Scalar.extui v953
  let c0_i32_534 : BitVec 32 := 0#32
  let v955 : BitVec 1 := Scalar.cmpi .ne v954 c0_i32_534
  v955

def k3_off283 (i : grid3.Coords) (v298 : BitVec 32) (v304 : BitVec 32) (k3_t71 : Fin (k3_t71_loop i v298 v304).trips) : Fin 2 → Nat :=
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let c1_i32_1196 : BitVec 32 := 1#32
  let arg13 : BitVec 32 := Scf.iv v949 c1_i32_1196 k3_t71
  let v1828 : Index := Scalar.indexCast arg13
  let c64 : Index := 64#32
  ![v1828.toNat, 64]
def k3_off284 (i : grid3.Coords) (v298 : BitVec 32) (v304 : BitVec 32) (k3_t71 : Fin (k3_t71_loop i v298 v304).trips) : Fin 2 → Nat :=
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let c1_i32_1196 : BitVec 32 := 1#32
  let arg13 : BitVec 32 := Scf.iv v949 c1_i32_1196 k3_t71
  let v1832 : Index := Scalar.indexCast arg13
  let c80 : Index := 80#32
  ![v1832.toNat, 80]
def k3_off285 (i : grid3.Coords) (v298 : BitVec 32) (v304 : BitVec 32) (k3_t71 : Fin (k3_t71_loop i v298 v304).trips) : Fin 2 → Nat :=
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let c1_i32_1196 : BitVec 32 := 1#32
  let arg13 : BitVec 32 := Scf.iv v949 c1_i32_1196 k3_t71
  let v1836 : Index := Scalar.indexCast arg13
  let c96 : Index := 96#32
  ![v1836.toNat, 96]
def k3_off286 (i : grid3.Coords) (v298 : BitVec 32) (v304 : BitVec 32) (k3_t71 : Fin (k3_t71_loop i v298 v304).trips) : Fin 2 → Nat :=
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let c1_i32_1196 : BitVec 32 := 1#32
  let arg13 : BitVec 32 := Scf.iv v949 c1_i32_1196 k3_t71
  let v1840 : Index := Scalar.indexCast arg13
  let c112 : Index := 112#32
  ![v1840.toNat, 112]
@[reducible] def k3_t72_loop (i : grid3.Coords) (v298 : BitVec 32) (v304 : BitVec 32) : Scf.Loop 32 :=
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let c256_i32_533 : BitVec 32 := 256#32
  let c0_i32_532 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c256_i32_531 : BitVec 32 := 256#32
  let v950 : BitVec 32 := Scalar.subi v308 c256_i32_531
  let v951 : BitVec 32 := Scalar.maxsi c0_i32_532 v950
  let v952 : BitVec 32 := Scalar.minsi c256_i32_533 v951
  let v1805 : BitVec 32 := Scalar.subi v952 v949
  let c1_i32_1195 : BitVec 32 := 1#32
  let v1807 : BitVec 32 := Scalar.divsi v1805 c1_i32_1195
  let v1808 : BitVec 32 := Scalar.muli v1807 c1_i32_1195
  let v1809 : BitVec 32 := Scalar.addi v949 v1808
  let v1806 : BitVec 32 := Scalar.addi v949 v1805
  let c1_i32_1197 : BitVec 32 := 1#32
  ⟨v1809, v1806, c1_i32_1197⟩
def k3_off287 (i : grid3.Coords) (v298 : BitVec 32) (v304 : BitVec 32) (k3_t72 : Fin (k3_t72_loop i v298 v304).trips) : Fin 2 → Nat :=
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let c256_i32_533 : BitVec 32 := 256#32
  let c0_i32_532 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c256_i32_531 : BitVec 32 := 256#32
  let v950 : BitVec 32 := Scalar.subi v308 c256_i32_531
  let v951 : BitVec 32 := Scalar.maxsi c0_i32_532 v950
  let v952 : BitVec 32 := Scalar.minsi c256_i32_533 v951
  let v1805 : BitVec 32 := Scalar.subi v952 v949
  let c1_i32_1195 : BitVec 32 := 1#32
  let v1807 : BitVec 32 := Scalar.divsi v1805 c1_i32_1195
  let v1808 : BitVec 32 := Scalar.muli v1807 c1_i32_1195
  let v1809 : BitVec 32 := Scalar.addi v949 v1808
  let c1_i32_1197 : BitVec 32 := 1#32
  let arg13 : BitVec 32 := Scf.iv v1809 c1_i32_1197 k3_t72
  let v1828 : Index := Scalar.indexCast arg13
  let c64 : Index := 64#32
  ![v1828.toNat, 64]
def k3_off288 (i : grid3.Coords) (v298 : BitVec 32) (v304 : BitVec 32) (k3_t72 : Fin (k3_t72_loop i v298 v304).trips) : Fin 2 → Nat :=
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let c256_i32_533 : BitVec 32 := 256#32
  let c0_i32_532 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c256_i32_531 : BitVec 32 := 256#32
  let v950 : BitVec 32 := Scalar.subi v308 c256_i32_531
  let v951 : BitVec 32 := Scalar.maxsi c0_i32_532 v950
  let v952 : BitVec 32 := Scalar.minsi c256_i32_533 v951
  let v1805 : BitVec 32 := Scalar.subi v952 v949
  let c1_i32_1195 : BitVec 32 := 1#32
  let v1807 : BitVec 32 := Scalar.divsi v1805 c1_i32_1195
  let v1808 : BitVec 32 := Scalar.muli v1807 c1_i32_1195
  let v1809 : BitVec 32 := Scalar.addi v949 v1808
  let c1_i32_1197 : BitVec 32 := 1#32
  let arg13 : BitVec 32 := Scf.iv v1809 c1_i32_1197 k3_t72
  let v1832 : Index := Scalar.indexCast arg13
  let c80 : Index := 80#32
  ![v1832.toNat, 80]
def k3_off289 (i : grid3.Coords) (v298 : BitVec 32) (v304 : BitVec 32) (k3_t72 : Fin (k3_t72_loop i v298 v304).trips) : Fin 2 → Nat :=
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let c256_i32_533 : BitVec 32 := 256#32
  let c0_i32_532 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c256_i32_531 : BitVec 32 := 256#32
  let v950 : BitVec 32 := Scalar.subi v308 c256_i32_531
  let v951 : BitVec 32 := Scalar.maxsi c0_i32_532 v950
  let v952 : BitVec 32 := Scalar.minsi c256_i32_533 v951
  let v1805 : BitVec 32 := Scalar.subi v952 v949
  let c1_i32_1195 : BitVec 32 := 1#32
  let v1807 : BitVec 32 := Scalar.divsi v1805 c1_i32_1195
  let v1808 : BitVec 32 := Scalar.muli v1807 c1_i32_1195
  let v1809 : BitVec 32 := Scalar.addi v949 v1808
  let c1_i32_1197 : BitVec 32 := 1#32
  let arg13 : BitVec 32 := Scf.iv v1809 c1_i32_1197 k3_t72
  let v1836 : Index := Scalar.indexCast arg13
  let c96 : Index := 96#32
  ![v1836.toNat, 96]
def k3_off290 (i : grid3.Coords) (v298 : BitVec 32) (v304 : BitVec 32) (k3_t72 : Fin (k3_t72_loop i v298 v304).trips) : Fin 2 → Nat :=
  let c256_i32_530 : BitVec 32 := 256#32
  let c0_i32_529 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c256_i32_528 : BitVec 32 := 256#32
  let v947 : BitVec 32 := Scalar.subi v302 c256_i32_528
  let v948 : BitVec 32 := Scalar.maxsi c0_i32_529 v947
  let v949 : BitVec 32 := Scalar.minsi c256_i32_530 v948
  let c256_i32_533 : BitVec 32 := 256#32
  let c0_i32_532 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c256_i32_531 : BitVec 32 := 256#32
  let v950 : BitVec 32 := Scalar.subi v308 c256_i32_531
  let v951 : BitVec 32 := Scalar.maxsi c0_i32_532 v950
  let v952 : BitVec 32 := Scalar.minsi c256_i32_533 v951
  let v1805 : BitVec 32 := Scalar.subi v952 v949
  let c1_i32_1195 : BitVec 32 := 1#32
  let v1807 : BitVec 32 := Scalar.divsi v1805 c1_i32_1195
  let v1808 : BitVec 32 := Scalar.muli v1807 c1_i32_1195
  let v1809 : BitVec 32 := Scalar.addi v949 v1808
  let c1_i32_1197 : BitVec 32 := 1#32
  let arg13 : BitVec 32 := Scf.iv v1809 c1_i32_1197 k3_t72
  let v1840 : Index := Scalar.indexCast arg13
  let c112 : Index := 112#32
  ![v1840.toNat, 112]
@[reducible] def k3_t73_loop (i : grid3.Coords) (v310 : BitVec 32) (v315 : BitVec 32) : Scf.Loop 32 :=
  let c256_i32_537 : BitVec 32 := 256#32
  let c0_i32_536 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let c256_i32_540 : BitVec 32 := 256#32
  let c0_i32_539 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c256_i32_538 : BitVec 32 := 256#32
  let v959 : BitVec 32 := Scalar.subi v318 c256_i32_538
  let v960 : BitVec 32 := Scalar.maxsi c0_i32_539 v959
  let v961 : BitVec 32 := Scalar.minsi c256_i32_540 v960
  let v1805 : BitVec 32 := Scalar.subi v961 v958
  let c1_i32_1195 : BitVec 32 := 1#32
  let v1807 : BitVec 32 := Scalar.divsi v1805 c1_i32_1195
  let v1808 : BitVec 32 := Scalar.muli v1807 c1_i32_1195
  let v1809 : BitVec 32 := Scalar.addi v958 v1808
  let c1_i32_1196 : BitVec 32 := 1#32
  ⟨v958, v1809, c1_i32_1196⟩
def k3_cond37 (i : grid3.Coords) (v310 : BitVec 32) (v315 : BitVec 32) : BitVec 1 :=
  let c256_i32_540 : BitVec 32 := 256#32
  let c0_i32_539 : BitVec 32 := 0#32
  let c1024_i32_133 : BitVec 32 := 1024#32
  let c0_i32_132 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v316 : BitVec 32 := Scalar.subi v315 v3
  let v317 : BitVec 32 := Scalar.maxsi c0_i32_132 v316
  let v318 : BitVec 32 := Scalar.minsi c1024_i32_133 v317
  let c256_i32_538 : BitVec 32 := 256#32
  let v959 : BitVec 32 := Scalar.subi v318 c256_i32_538
  let v960 : BitVec 32 := Scalar.maxsi c0_i32_539 v959
  let v961 : BitVec 32 := Scalar.minsi c256_i32_540 v960
  let c256_i32_537 : BitVec 32 := 256#32
  let c0_i32_536 : BitVec 32 := 0#32
  let c1024_i32_131 : BitVec 32 := 1024#32
  let c0_i32_130 : BitVec 32 := 0#32
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let v962 : BitVec 1 := Scalar.cmpi .sgt v961 v958
  let v963 : BitVec 32 := Scalar.extui v962
  let c0_i32_541 : BitVec 32 := 0#32
  let v964 : BitVec 1 := Scalar.cmpi .ne v963 c0_i32_541
  v964

def k3_off291 (i : grid3.Coords) (v310 : BitVec 32) (v315 : BitVec 32) (k3_t73 : Fin (k3_t73_loop i v310 v315).trips) : Fin 2 → Nat :=
  let c256_i32_537 : BitVec 32 := 256#32
  let c0_i32_536 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let c1_i32_1196 : BitVec 32 := 1#32
  let arg13 : BitVec 32 := Scf.iv v958 c1_i32_1196 k3_t73
  let v1828 : Index := Scalar.indexCast arg13
  let c0_1206 : Index := 0#32
  ![v1828.toNat, 0]
def k3_off292 (i : grid3.Coords) (v310 : BitVec 32) (v315 : BitVec 32) (k3_t73 : Fin (k3_t73_loop i v310 v315).trips) : Fin 2 → Nat :=
  let c256_i32_537 : BitVec 32 := 256#32
  let c0_i32_536 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let c1_i32_1196 : BitVec 32 := 1#32
  let arg13 : BitVec 32 := Scf.iv v958 c1_i32_1196 k3_t73
  let v1832 : Index := Scalar.indexCast arg13
  let c16_1207 : Index := 16#32
  ![v1832.toNat, 16]
def k3_off293 (i : grid3.Coords) (v310 : BitVec 32) (v315 : BitVec 32) (k3_t73 : Fin (k3_t73_loop i v310 v315).trips) : Fin 2 → Nat :=
  let c256_i32_537 : BitVec 32 := 256#32
  let c0_i32_536 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let c1_i32_1196 : BitVec 32 := 1#32
  let arg13 : BitVec 32 := Scf.iv v958 c1_i32_1196 k3_t73
  let v1836 : Index := Scalar.indexCast arg13
  let c32_1208 : Index := 32#32
  ![v1836.toNat, 32]
def k3_off294 (i : grid3.Coords) (v310 : BitVec 32) (v315 : BitVec 32) (k3_t73 : Fin (k3_t73_loop i v310 v315).trips) : Fin 2 → Nat :=
  let c256_i32_537 : BitVec 32 := 256#32
  let c0_i32_536 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let c1_i32_1196 : BitVec 32 := 1#32
  let arg13 : BitVec 32 := Scf.iv v958 c1_i32_1196 k3_t73
  let v1840 : Index := Scalar.indexCast arg13
  let c48_1209 : Index := 48#32
  ![v1840.toNat, 48]
@[reducible] def k3_t74_loop (i : grid3.Coords) (v310 : BitVec 32) (v315 : BitVec 32) : Scf.Loop 32 :=
  let c256_i32_537 : BitVec 32 := 256#32
  let c0_i32_536 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let c256_i32_540 : BitVec 32 := 256#32
  let c0_i32_539 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c256_i32_538 : BitVec 32 := 256#32
  let v959 : BitVec 32 := Scalar.subi v318 c256_i32_538
  let v960 : BitVec 32 := Scalar.maxsi c0_i32_539 v959
  let v961 : BitVec 32 := Scalar.minsi c256_i32_540 v960
  let v1805 : BitVec 32 := Scalar.subi v961 v958
  let c1_i32_1195 : BitVec 32 := 1#32
  let v1807 : BitVec 32 := Scalar.divsi v1805 c1_i32_1195
  let v1808 : BitVec 32 := Scalar.muli v1807 c1_i32_1195
  let v1809 : BitVec 32 := Scalar.addi v958 v1808
  let v1806 : BitVec 32 := Scalar.addi v958 v1805
  let c1_i32_1197 : BitVec 32 := 1#32
  ⟨v1809, v1806, c1_i32_1197⟩
def k3_off295 (i : grid3.Coords) (v310 : BitVec 32) (v315 : BitVec 32) (k3_t74 : Fin (k3_t74_loop i v310 v315).trips) : Fin 2 → Nat :=
  let c256_i32_537 : BitVec 32 := 256#32
  let c0_i32_536 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let c256_i32_540 : BitVec 32 := 256#32
  let c0_i32_539 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c256_i32_538 : BitVec 32 := 256#32
  let v959 : BitVec 32 := Scalar.subi v318 c256_i32_538
  let v960 : BitVec 32 := Scalar.maxsi c0_i32_539 v959
  let v961 : BitVec 32 := Scalar.minsi c256_i32_540 v960
  let v1805 : BitVec 32 := Scalar.subi v961 v958
  let c1_i32_1195 : BitVec 32 := 1#32
  let v1807 : BitVec 32 := Scalar.divsi v1805 c1_i32_1195
  let v1808 : BitVec 32 := Scalar.muli v1807 c1_i32_1195
  let v1809 : BitVec 32 := Scalar.addi v958 v1808
  let c1_i32_1197 : BitVec 32 := 1#32
  let arg13 : BitVec 32 := Scf.iv v1809 c1_i32_1197 k3_t74
  let v1828 : Index := Scalar.indexCast arg13
  let c0_1206 : Index := 0#32
  ![v1828.toNat, 0]
def k3_off296 (i : grid3.Coords) (v310 : BitVec 32) (v315 : BitVec 32) (k3_t74 : Fin (k3_t74_loop i v310 v315).trips) : Fin 2 → Nat :=
  let c256_i32_537 : BitVec 32 := 256#32
  let c0_i32_536 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let c256_i32_540 : BitVec 32 := 256#32
  let c0_i32_539 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c256_i32_538 : BitVec 32 := 256#32
  let v959 : BitVec 32 := Scalar.subi v318 c256_i32_538
  let v960 : BitVec 32 := Scalar.maxsi c0_i32_539 v959
  let v961 : BitVec 32 := Scalar.minsi c256_i32_540 v960
  let v1805 : BitVec 32 := Scalar.subi v961 v958
  let c1_i32_1195 : BitVec 32 := 1#32
  let v1807 : BitVec 32 := Scalar.divsi v1805 c1_i32_1195
  let v1808 : BitVec 32 := Scalar.muli v1807 c1_i32_1195
  let v1809 : BitVec 32 := Scalar.addi v958 v1808
  let c1_i32_1197 : BitVec 32 := 1#32
  let arg13 : BitVec 32 := Scf.iv v1809 c1_i32_1197 k3_t74
  let v1832 : Index := Scalar.indexCast arg13
  let c16_1207 : Index := 16#32
  ![v1832.toNat, 16]
def k3_off297 (i : grid3.Coords) (v310 : BitVec 32) (v315 : BitVec 32) (k3_t74 : Fin (k3_t74_loop i v310 v315).trips) : Fin 2 → Nat :=
  let c256_i32_537 : BitVec 32 := 256#32
  let c0_i32_536 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let c256_i32_540 : BitVec 32 := 256#32
  let c0_i32_539 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c256_i32_538 : BitVec 32 := 256#32
  let v959 : BitVec 32 := Scalar.subi v318 c256_i32_538
  let v960 : BitVec 32 := Scalar.maxsi c0_i32_539 v959
  let v961 : BitVec 32 := Scalar.minsi c256_i32_540 v960
  let v1805 : BitVec 32 := Scalar.subi v961 v958
  let c1_i32_1195 : BitVec 32 := 1#32
  let v1807 : BitVec 32 := Scalar.divsi v1805 c1_i32_1195
  let v1808 : BitVec 32 := Scalar.muli v1807 c1_i32_1195
  let v1809 : BitVec 32 := Scalar.addi v958 v1808
  let c1_i32_1197 : BitVec 32 := 1#32
  let arg13 : BitVec 32 := Scf.iv v1809 c1_i32_1197 k3_t74
  let v1836 : Index := Scalar.indexCast arg13
  let c32_1208 : Index := 32#32
  ![v1836.toNat, 32]
def k3_off298 (i : grid3.Coords) (v310 : BitVec 32) (v315 : BitVec 32) (k3_t74 : Fin (k3_t74_loop i v310 v315).trips) : Fin 2 → Nat :=
  let c256_i32_537 : BitVec 32 := 256#32
  let c0_i32_536 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c256_i32_535 : BitVec 32 := 256#32
  let v956 : BitVec 32 := Scalar.subi v313 c256_i32_535
  let v957 : BitVec 32 := Scalar.maxsi c0_i32_536 v956
  let v958 : BitVec 32 := Scalar.minsi c256_i32_537 v957
  let c256_i32_540 : BitVec 32 := 256#32
  let c0_i32_539 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c256_i32_538 : BitVec 32 := 256#32
  let v959 : BitVec 32 := Scalar.subi v318 c256_i32_538
  let v960 : BitVec 32 := Scalar.maxsi c0_i32_539 v959
  let v961 : BitVec 32 := Scalar.minsi c256_i32_540 v960
  let v1805 : BitVec 32 := Scalar.subi v961 v958
  let c1_i32_1195 : BitVec 32 := 1#32
  let v1807 : BitVec 32 := Scalar.divsi v1805 c1_i32_1195
  let v1808 : BitVec 32 := Scalar.muli v1807 c1_i32_1195
  let v1809 : BitVec 32 := Scalar.addi v958 v1808
  let c1_i32_1197 : BitVec 32 := 1#32
  let arg13 : BitVec 32 := Scf.iv v1809 c1_i32_1197 k3_t74
  let v1840 : Index := Scalar.indexCast arg13
  let c48_1209 : Index := 48#32
  ![v1840.toNat, 48]
@[reducible] def k3_t75_loop (i : grid3.Coords) (v320 : BitVec 32) (v326 : BitVec 32) : Scf.Loop 32 :=
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let c256_i32_547 : BitVec 32 := 256#32
  let c0_i32_546 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c256_i32_545 : BitVec 32 := 256#32
  let v968 : BitVec 32 := Scalar.subi v330 c256_i32_545
  let v969 : BitVec 32 := Scalar.maxsi c0_i32_546 v968
  let v970 : BitVec 32 := Scalar.minsi c256_i32_547 v969
  let v1805 : BitVec 32 := Scalar.subi v970 v967
  let c1_i32_1195 : BitVec 32 := 1#32
  let v1807 : BitVec 32 := Scalar.divsi v1805 c1_i32_1195
  let v1808 : BitVec 32 := Scalar.muli v1807 c1_i32_1195
  let v1809 : BitVec 32 := Scalar.addi v967 v1808
  let c1_i32_1196 : BitVec 32 := 1#32
  ⟨v967, v1809, c1_i32_1196⟩
def k3_cond38 (i : grid3.Coords) (v320 : BitVec 32) (v326 : BitVec 32) : BitVec 1 :=
  let c256_i32_547 : BitVec 32 := 256#32
  let c0_i32_546 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v328 : BitVec 32 := Scalar.subi v327 v3
  let v329 : BitVec 32 := Scalar.maxsi c0_i32_138 v328
  let v330 : BitVec 32 := Scalar.minsi c1024_i32_139 v329
  let c256_i32_545 : BitVec 32 := 256#32
  let v968 : BitVec 32 := Scalar.subi v330 c256_i32_545
  let v969 : BitVec 32 := Scalar.maxsi c0_i32_546 v968
  let v970 : BitVec 32 := Scalar.minsi c256_i32_547 v969
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let v971 : BitVec 1 := Scalar.cmpi .sgt v970 v967
  let v972 : BitVec 32 := Scalar.extui v971
  let c0_i32_548 : BitVec 32 := 0#32
  let v973 : BitVec 1 := Scalar.cmpi .ne v972 c0_i32_548
  v973

def k3_off299 (i : grid3.Coords) (v320 : BitVec 32) (v326 : BitVec 32) (k3_t75 : Fin (k3_t75_loop i v320 v326).trips) : Fin 2 → Nat :=
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let c1_i32_1196 : BitVec 32 := 1#32
  let arg13 : BitVec 32 := Scf.iv v967 c1_i32_1196 k3_t75
  let v1828 : Index := Scalar.indexCast arg13
  let c64 : Index := 64#32
  ![v1828.toNat, 64]
def k3_off300 (i : grid3.Coords) (v320 : BitVec 32) (v326 : BitVec 32) (k3_t75 : Fin (k3_t75_loop i v320 v326).trips) : Fin 2 → Nat :=
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let c1_i32_1196 : BitVec 32 := 1#32
  let arg13 : BitVec 32 := Scf.iv v967 c1_i32_1196 k3_t75
  let v1832 : Index := Scalar.indexCast arg13
  let c80 : Index := 80#32
  ![v1832.toNat, 80]
def k3_off301 (i : grid3.Coords) (v320 : BitVec 32) (v326 : BitVec 32) (k3_t75 : Fin (k3_t75_loop i v320 v326).trips) : Fin 2 → Nat :=
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let c1_i32_1196 : BitVec 32 := 1#32
  let arg13 : BitVec 32 := Scf.iv v967 c1_i32_1196 k3_t75
  let v1836 : Index := Scalar.indexCast arg13
  let c96 : Index := 96#32
  ![v1836.toNat, 96]
def k3_off302 (i : grid3.Coords) (v320 : BitVec 32) (v326 : BitVec 32) (k3_t75 : Fin (k3_t75_loop i v320 v326).trips) : Fin 2 → Nat :=
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let c1_i32_1196 : BitVec 32 := 1#32
  let arg13 : BitVec 32 := Scf.iv v967 c1_i32_1196 k3_t75
  let v1840 : Index := Scalar.indexCast arg13
  let c112 : Index := 112#32
  ![v1840.toNat, 112]
@[reducible] def k3_t76_loop (i : grid3.Coords) (v320 : BitVec 32) (v326 : BitVec 32) : Scf.Loop 32 :=
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let c256_i32_547 : BitVec 32 := 256#32
  let c0_i32_546 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c256_i32_545 : BitVec 32 := 256#32
  let v968 : BitVec 32 := Scalar.subi v330 c256_i32_545
  let v969 : BitVec 32 := Scalar.maxsi c0_i32_546 v968
  let v970 : BitVec 32 := Scalar.minsi c256_i32_547 v969
  let v1805 : BitVec 32 := Scalar.subi v970 v967
  let c1_i32_1195 : BitVec 32 := 1#32
  let v1807 : BitVec 32 := Scalar.divsi v1805 c1_i32_1195
  let v1808 : BitVec 32 := Scalar.muli v1807 c1_i32_1195
  let v1809 : BitVec 32 := Scalar.addi v967 v1808
  let v1806 : BitVec 32 := Scalar.addi v967 v1805
  let c1_i32_1197 : BitVec 32 := 1#32
  ⟨v1809, v1806, c1_i32_1197⟩
def k3_off303 (i : grid3.Coords) (v320 : BitVec 32) (v326 : BitVec 32) (k3_t76 : Fin (k3_t76_loop i v320 v326).trips) : Fin 2 → Nat :=
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let c256_i32_547 : BitVec 32 := 256#32
  let c0_i32_546 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c256_i32_545 : BitVec 32 := 256#32
  let v968 : BitVec 32 := Scalar.subi v330 c256_i32_545
  let v969 : BitVec 32 := Scalar.maxsi c0_i32_546 v968
  let v970 : BitVec 32 := Scalar.minsi c256_i32_547 v969
  let v1805 : BitVec 32 := Scalar.subi v970 v967
  let c1_i32_1195 : BitVec 32 := 1#32
  let v1807 : BitVec 32 := Scalar.divsi v1805 c1_i32_1195
  let v1808 : BitVec 32 := Scalar.muli v1807 c1_i32_1195
  let v1809 : BitVec 32 := Scalar.addi v967 v1808
  let c1_i32_1197 : BitVec 32 := 1#32
  let arg13 : BitVec 32 := Scf.iv v1809 c1_i32_1197 k3_t76
  let v1828 : Index := Scalar.indexCast arg13
  let c64 : Index := 64#32
  ![v1828.toNat, 64]
def k3_off304 (i : grid3.Coords) (v320 : BitVec 32) (v326 : BitVec 32) (k3_t76 : Fin (k3_t76_loop i v320 v326).trips) : Fin 2 → Nat :=
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let c256_i32_547 : BitVec 32 := 256#32
  let c0_i32_546 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c256_i32_545 : BitVec 32 := 256#32
  let v968 : BitVec 32 := Scalar.subi v330 c256_i32_545
  let v969 : BitVec 32 := Scalar.maxsi c0_i32_546 v968
  let v970 : BitVec 32 := Scalar.minsi c256_i32_547 v969
  let v1805 : BitVec 32 := Scalar.subi v970 v967
  let c1_i32_1195 : BitVec 32 := 1#32
  let v1807 : BitVec 32 := Scalar.divsi v1805 c1_i32_1195
  let v1808 : BitVec 32 := Scalar.muli v1807 c1_i32_1195
  let v1809 : BitVec 32 := Scalar.addi v967 v1808
  let c1_i32_1197 : BitVec 32 := 1#32
  let arg13 : BitVec 32 := Scf.iv v1809 c1_i32_1197 k3_t76
  let v1832 : Index := Scalar.indexCast arg13
  let c80 : Index := 80#32
  ![v1832.toNat, 80]
def k3_off305 (i : grid3.Coords) (v320 : BitVec 32) (v326 : BitVec 32) (k3_t76 : Fin (k3_t76_loop i v320 v326).trips) : Fin 2 → Nat :=
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let c256_i32_547 : BitVec 32 := 256#32
  let c0_i32_546 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c256_i32_545 : BitVec 32 := 256#32
  let v968 : BitVec 32 := Scalar.subi v330 c256_i32_545
  let v969 : BitVec 32 := Scalar.maxsi c0_i32_546 v968
  let v970 : BitVec 32 := Scalar.minsi c256_i32_547 v969
  let v1805 : BitVec 32 := Scalar.subi v970 v967
  let c1_i32_1195 : BitVec 32 := 1#32
  let v1807 : BitVec 32 := Scalar.divsi v1805 c1_i32_1195
  let v1808 : BitVec 32 := Scalar.muli v1807 c1_i32_1195
  let v1809 : BitVec 32 := Scalar.addi v967 v1808
  let c1_i32_1197 : BitVec 32 := 1#32
  let arg13 : BitVec 32 := Scf.iv v1809 c1_i32_1197 k3_t76
  let v1836 : Index := Scalar.indexCast arg13
  let c96 : Index := 96#32
  ![v1836.toNat, 96]
def k3_off306 (i : grid3.Coords) (v320 : BitVec 32) (v326 : BitVec 32) (k3_t76 : Fin (k3_t76_loop i v320 v326).trips) : Fin 2 → Nat :=
  let c256_i32_544 : BitVec 32 := 256#32
  let c0_i32_543 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c256_i32_542 : BitVec 32 := 256#32
  let v965 : BitVec 32 := Scalar.subi v324 c256_i32_542
  let v966 : BitVec 32 := Scalar.maxsi c0_i32_543 v965
  let v967 : BitVec 32 := Scalar.minsi c256_i32_544 v966
  let c256_i32_547 : BitVec 32 := 256#32
  let c0_i32_546 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c256_i32_545 : BitVec 32 := 256#32
  let v968 : BitVec 32 := Scalar.subi v330 c256_i32_545
  let v969 : BitVec 32 := Scalar.maxsi c0_i32_546 v968
  let v970 : BitVec 32 := Scalar.minsi c256_i32_547 v969
  let v1805 : BitVec 32 := Scalar.subi v970 v967
  let c1_i32_1195 : BitVec 32 := 1#32
  let v1807 : BitVec 32 := Scalar.divsi v1805 c1_i32_1195
  let v1808 : BitVec 32 := Scalar.muli v1807 c1_i32_1195
  let v1809 : BitVec 32 := Scalar.addi v967 v1808
  let c1_i32_1197 : BitVec 32 := 1#32
  let arg13 : BitVec 32 := Scf.iv v1809 c1_i32_1197 k3_t76
  let v1840 : Index := Scalar.indexCast arg13
  let c112 : Index := 112#32
  ![v1840.toNat, 112]
@[reducible] def k3_t77_loop (i : grid3.Coords) (v332 : BitVec 32) (v337 : BitVec 32) : Scf.Loop 32 :=
  let c256_i32_551 : BitVec 32 := 256#32
  let c0_i32_550 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let c256_i32_554 : BitVec 32 := 256#32
  let c0_i32_553 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c256_i32_552 : BitVec 32 := 256#32
  let v977 : BitVec 32 := Scalar.subi v340 c256_i32_552
  let v978 : BitVec 32 := Scalar.maxsi c0_i32_553 v977
  let v979 : BitVec 32 := Scalar.minsi c256_i32_554 v978
  let v1805 : BitVec 32 := Scalar.subi v979 v976
  let c1_i32_1195 : BitVec 32 := 1#32
  let v1807 : BitVec 32 := Scalar.divsi v1805 c1_i32_1195
  let v1808 : BitVec 32 := Scalar.muli v1807 c1_i32_1195
  let v1809 : BitVec 32 := Scalar.addi v976 v1808
  let c1_i32_1196 : BitVec 32 := 1#32
  ⟨v976, v1809, c1_i32_1196⟩
def k3_cond39 (i : grid3.Coords) (v332 : BitVec 32) (v337 : BitVec 32) : BitVec 1 :=
  let c256_i32_554 : BitVec 32 := 256#32
  let c0_i32_553 : BitVec 32 := 0#32
  let c1024_i32_143 : BitVec 32 := 1024#32
  let c0_i32_142 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v338 : BitVec 32 := Scalar.subi v337 v3
  let v339 : BitVec 32 := Scalar.maxsi c0_i32_142 v338
  let v340 : BitVec 32 := Scalar.minsi c1024_i32_143 v339
  let c256_i32_552 : BitVec 32 := 256#32
  let v977 : BitVec 32 := Scalar.subi v340 c256_i32_552
  let v978 : BitVec 32 := Scalar.maxsi c0_i32_553 v977
  let v979 : BitVec 32 := Scalar.minsi c256_i32_554 v978
  let c256_i32_551 : BitVec 32 := 256#32
  let c0_i32_550 : BitVec 32 := 0#32
  let c1024_i32_141 : BitVec 32 := 1024#32
  let c0_i32_140 : BitVec 32 := 0#32
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let v980 : BitVec 1 := Scalar.cmpi .sgt v979 v976
  let v981 : BitVec 32 := Scalar.extui v980
  let c0_i32_555 : BitVec 32 := 0#32
  let v982 : BitVec 1 := Scalar.cmpi .ne v981 c0_i32_555
  v982

def k3_off307 (i : grid3.Coords) (v332 : BitVec 32) (v337 : BitVec 32) (k3_t77 : Fin (k3_t77_loop i v332 v337).trips) : Fin 2 → Nat :=
  let c256_i32_551 : BitVec 32 := 256#32
  let c0_i32_550 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let c1_i32_1196 : BitVec 32 := 1#32
  let arg13 : BitVec 32 := Scf.iv v976 c1_i32_1196 k3_t77
  let v1828 : Index := Scalar.indexCast arg13
  let c0_1206 : Index := 0#32
  ![v1828.toNat, 0]
def k3_off308 (i : grid3.Coords) (v332 : BitVec 32) (v337 : BitVec 32) (k3_t77 : Fin (k3_t77_loop i v332 v337).trips) : Fin 2 → Nat :=
  let c256_i32_551 : BitVec 32 := 256#32
  let c0_i32_550 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let c1_i32_1196 : BitVec 32 := 1#32
  let arg13 : BitVec 32 := Scf.iv v976 c1_i32_1196 k3_t77
  let v1832 : Index := Scalar.indexCast arg13
  let c16_1207 : Index := 16#32
  ![v1832.toNat, 16]
def k3_off309 (i : grid3.Coords) (v332 : BitVec 32) (v337 : BitVec 32) (k3_t77 : Fin (k3_t77_loop i v332 v337).trips) : Fin 2 → Nat :=
  let c256_i32_551 : BitVec 32 := 256#32
  let c0_i32_550 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let c1_i32_1196 : BitVec 32 := 1#32
  let arg13 : BitVec 32 := Scf.iv v976 c1_i32_1196 k3_t77
  let v1836 : Index := Scalar.indexCast arg13
  let c32_1208 : Index := 32#32
  ![v1836.toNat, 32]
def k3_off310 (i : grid3.Coords) (v332 : BitVec 32) (v337 : BitVec 32) (k3_t77 : Fin (k3_t77_loop i v332 v337).trips) : Fin 2 → Nat :=
  let c256_i32_551 : BitVec 32 := 256#32
  let c0_i32_550 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let c1_i32_1196 : BitVec 32 := 1#32
  let arg13 : BitVec 32 := Scf.iv v976 c1_i32_1196 k3_t77
  let v1840 : Index := Scalar.indexCast arg13
  let c48_1209 : Index := 48#32
  ![v1840.toNat, 48]
@[reducible] def k3_t78_loop (i : grid3.Coords) (v332 : BitVec 32) (v337 : BitVec 32) : Scf.Loop 32 :=
  let c256_i32_551 : BitVec 32 := 256#32
  let c0_i32_550 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let c256_i32_554 : BitVec 32 := 256#32
  let c0_i32_553 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c256_i32_552 : BitVec 32 := 256#32
  let v977 : BitVec 32 := Scalar.subi v340 c256_i32_552
  let v978 : BitVec 32 := Scalar.maxsi c0_i32_553 v977
  let v979 : BitVec 32 := Scalar.minsi c256_i32_554 v978
  let v1805 : BitVec 32 := Scalar.subi v979 v976
  let c1_i32_1195 : BitVec 32 := 1#32
  let v1807 : BitVec 32 := Scalar.divsi v1805 c1_i32_1195
  let v1808 : BitVec 32 := Scalar.muli v1807 c1_i32_1195
  let v1809 : BitVec 32 := Scalar.addi v976 v1808
  let v1806 : BitVec 32 := Scalar.addi v976 v1805
  let c1_i32_1197 : BitVec 32 := 1#32
  ⟨v1809, v1806, c1_i32_1197⟩
def k3_off311 (i : grid3.Coords) (v332 : BitVec 32) (v337 : BitVec 32) (k3_t78 : Fin (k3_t78_loop i v332 v337).trips) : Fin 2 → Nat :=
  let c256_i32_551 : BitVec 32 := 256#32
  let c0_i32_550 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let c256_i32_554 : BitVec 32 := 256#32
  let c0_i32_553 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c256_i32_552 : BitVec 32 := 256#32
  let v977 : BitVec 32 := Scalar.subi v340 c256_i32_552
  let v978 : BitVec 32 := Scalar.maxsi c0_i32_553 v977
  let v979 : BitVec 32 := Scalar.minsi c256_i32_554 v978
  let v1805 : BitVec 32 := Scalar.subi v979 v976
  let c1_i32_1195 : BitVec 32 := 1#32
  let v1807 : BitVec 32 := Scalar.divsi v1805 c1_i32_1195
  let v1808 : BitVec 32 := Scalar.muli v1807 c1_i32_1195
  let v1809 : BitVec 32 := Scalar.addi v976 v1808
  let c1_i32_1197 : BitVec 32 := 1#32
  let arg13 : BitVec 32 := Scf.iv v1809 c1_i32_1197 k3_t78
  let v1828 : Index := Scalar.indexCast arg13
  let c0_1206 : Index := 0#32
  ![v1828.toNat, 0]
def k3_off312 (i : grid3.Coords) (v332 : BitVec 32) (v337 : BitVec 32) (k3_t78 : Fin (k3_t78_loop i v332 v337).trips) : Fin 2 → Nat :=
  let c256_i32_551 : BitVec 32 := 256#32
  let c0_i32_550 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let c256_i32_554 : BitVec 32 := 256#32
  let c0_i32_553 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c256_i32_552 : BitVec 32 := 256#32
  let v977 : BitVec 32 := Scalar.subi v340 c256_i32_552
  let v978 : BitVec 32 := Scalar.maxsi c0_i32_553 v977
  let v979 : BitVec 32 := Scalar.minsi c256_i32_554 v978
  let v1805 : BitVec 32 := Scalar.subi v979 v976
  let c1_i32_1195 : BitVec 32 := 1#32
  let v1807 : BitVec 32 := Scalar.divsi v1805 c1_i32_1195
  let v1808 : BitVec 32 := Scalar.muli v1807 c1_i32_1195
  let v1809 : BitVec 32 := Scalar.addi v976 v1808
  let c1_i32_1197 : BitVec 32 := 1#32
  let arg13 : BitVec 32 := Scf.iv v1809 c1_i32_1197 k3_t78
  let v1832 : Index := Scalar.indexCast arg13
  let c16_1207 : Index := 16#32
  ![v1832.toNat, 16]
def k3_off313 (i : grid3.Coords) (v332 : BitVec 32) (v337 : BitVec 32) (k3_t78 : Fin (k3_t78_loop i v332 v337).trips) : Fin 2 → Nat :=
  let c256_i32_551 : BitVec 32 := 256#32
  let c0_i32_550 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let c256_i32_554 : BitVec 32 := 256#32
  let c0_i32_553 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c256_i32_552 : BitVec 32 := 256#32
  let v977 : BitVec 32 := Scalar.subi v340 c256_i32_552
  let v978 : BitVec 32 := Scalar.maxsi c0_i32_553 v977
  let v979 : BitVec 32 := Scalar.minsi c256_i32_554 v978
  let v1805 : BitVec 32 := Scalar.subi v979 v976
  let c1_i32_1195 : BitVec 32 := 1#32
  let v1807 : BitVec 32 := Scalar.divsi v1805 c1_i32_1195
  let v1808 : BitVec 32 := Scalar.muli v1807 c1_i32_1195
  let v1809 : BitVec 32 := Scalar.addi v976 v1808
  let c1_i32_1197 : BitVec 32 := 1#32
  let arg13 : BitVec 32 := Scf.iv v1809 c1_i32_1197 k3_t78
  let v1836 : Index := Scalar.indexCast arg13
  let c32_1208 : Index := 32#32
  ![v1836.toNat, 32]
def k3_off314 (i : grid3.Coords) (v332 : BitVec 32) (v337 : BitVec 32) (k3_t78 : Fin (k3_t78_loop i v332 v337).trips) : Fin 2 → Nat :=
  let c256_i32_551 : BitVec 32 := 256#32
  let c0_i32_550 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c256_i32_549 : BitVec 32 := 256#32
  let v974 : BitVec 32 := Scalar.subi v335 c256_i32_549
  let v975 : BitVec 32 := Scalar.maxsi c0_i32_550 v974
  let v976 : BitVec 32 := Scalar.minsi c256_i32_551 v975
  let c256_i32_554 : BitVec 32 := 256#32
  let c0_i32_553 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c256_i32_552 : BitVec 32 := 256#32
  let v977 : BitVec 32 := Scalar.subi v340 c256_i32_552
  let v978 : BitVec 32 := Scalar.maxsi c0_i32_553 v977
  let v979 : BitVec 32 := Scalar.minsi c256_i32_554 v978
  let v1805 : BitVec 32 := Scalar.subi v979 v976
  let c1_i32_1195 : BitVec 32 := 1#32
  let v1807 : BitVec 32 := Scalar.divsi v1805 c1_i32_1195
  let v1808 : BitVec 32 := Scalar.muli v1807 c1_i32_1195
  let v1809 : BitVec 32 := Scalar.addi v976 v1808
  let c1_i32_1197 : BitVec 32 := 1#32
  let arg13 : BitVec 32 := Scf.iv v1809 c1_i32_1197 k3_t78
  let v1840 : Index := Scalar.indexCast arg13
  let c48_1209 : Index := 48#32
  ![v1840.toNat, 48]
@[reducible] def k3_t79_loop (i : grid3.Coords) (v342 : BitVec 32) (v348 : BitVec 32) : Scf.Loop 32 :=
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let c256_i32_561 : BitVec 32 := 256#32
  let c0_i32_560 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c256_i32_559 : BitVec 32 := 256#32
  let v986 : BitVec 32 := Scalar.subi v352 c256_i32_559
  let v987 : BitVec 32 := Scalar.maxsi c0_i32_560 v986
  let v988 : BitVec 32 := Scalar.minsi c256_i32_561 v987
  let v1805 : BitVec 32 := Scalar.subi v988 v985
  let c1_i32_1195 : BitVec 32 := 1#32
  let v1807 : BitVec 32 := Scalar.divsi v1805 c1_i32_1195
  let v1808 : BitVec 32 := Scalar.muli v1807 c1_i32_1195
  let v1809 : BitVec 32 := Scalar.addi v985 v1808
  let c1_i32_1196 : BitVec 32 := 1#32
  ⟨v985, v1809, c1_i32_1196⟩
def k3_cond40 (i : grid3.Coords) (v342 : BitVec 32) (v348 : BitVec 32) : BitVec 1 :=
  let c256_i32_561 : BitVec 32 := 256#32
  let c0_i32_560 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v350 : BitVec 32 := Scalar.subi v349 v3
  let v351 : BitVec 32 := Scalar.maxsi c0_i32_148 v350
  let v352 : BitVec 32 := Scalar.minsi c1024_i32_149 v351
  let c256_i32_559 : BitVec 32 := 256#32
  let v986 : BitVec 32 := Scalar.subi v352 c256_i32_559
  let v987 : BitVec 32 := Scalar.maxsi c0_i32_560 v986
  let v988 : BitVec 32 := Scalar.minsi c256_i32_561 v987
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let v989 : BitVec 1 := Scalar.cmpi .sgt v988 v985
  let v990 : BitVec 32 := Scalar.extui v989
  let c0_i32_562 : BitVec 32 := 0#32
  let v991 : BitVec 1 := Scalar.cmpi .ne v990 c0_i32_562
  v991

def k3_off315 (i : grid3.Coords) (v342 : BitVec 32) (v348 : BitVec 32) (k3_t79 : Fin (k3_t79_loop i v342 v348).trips) : Fin 2 → Nat :=
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let c1_i32_1196 : BitVec 32 := 1#32
  let arg13 : BitVec 32 := Scf.iv v985 c1_i32_1196 k3_t79
  let v1828 : Index := Scalar.indexCast arg13
  let c64 : Index := 64#32
  ![v1828.toNat, 64]
def k3_off316 (i : grid3.Coords) (v342 : BitVec 32) (v348 : BitVec 32) (k3_t79 : Fin (k3_t79_loop i v342 v348).trips) : Fin 2 → Nat :=
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let c1_i32_1196 : BitVec 32 := 1#32
  let arg13 : BitVec 32 := Scf.iv v985 c1_i32_1196 k3_t79
  let v1832 : Index := Scalar.indexCast arg13
  let c80 : Index := 80#32
  ![v1832.toNat, 80]
def k3_off317 (i : grid3.Coords) (v342 : BitVec 32) (v348 : BitVec 32) (k3_t79 : Fin (k3_t79_loop i v342 v348).trips) : Fin 2 → Nat :=
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let c1_i32_1196 : BitVec 32 := 1#32
  let arg13 : BitVec 32 := Scf.iv v985 c1_i32_1196 k3_t79
  let v1836 : Index := Scalar.indexCast arg13
  let c96 : Index := 96#32
  ![v1836.toNat, 96]
def k3_off318 (i : grid3.Coords) (v342 : BitVec 32) (v348 : BitVec 32) (k3_t79 : Fin (k3_t79_loop i v342 v348).trips) : Fin 2 → Nat :=
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let c1_i32_1196 : BitVec 32 := 1#32
  let arg13 : BitVec 32 := Scf.iv v985 c1_i32_1196 k3_t79
  let v1840 : Index := Scalar.indexCast arg13
  let c112 : Index := 112#32
  ![v1840.toNat, 112]
@[reducible] def k3_t80_loop (i : grid3.Coords) (v342 : BitVec 32) (v348 : BitVec 32) : Scf.Loop 32 :=
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let c256_i32_561 : BitVec 32 := 256#32
  let c0_i32_560 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c256_i32_559 : BitVec 32 := 256#32
  let v986 : BitVec 32 := Scalar.subi v352 c256_i32_559
  let v987 : BitVec 32 := Scalar.maxsi c0_i32_560 v986
  let v988 : BitVec 32 := Scalar.minsi c256_i32_561 v987
  let v1805 : BitVec 32 := Scalar.subi v988 v985
  let c1_i32_1195 : BitVec 32 := 1#32
  let v1807 : BitVec 32 := Scalar.divsi v1805 c1_i32_1195
  let v1808 : BitVec 32 := Scalar.muli v1807 c1_i32_1195
  let v1809 : BitVec 32 := Scalar.addi v985 v1808
  let v1806 : BitVec 32 := Scalar.addi v985 v1805
  let c1_i32_1197 : BitVec 32 := 1#32
  ⟨v1809, v1806, c1_i32_1197⟩
def k3_off319 (i : grid3.Coords) (v342 : BitVec 32) (v348 : BitVec 32) (k3_t80 : Fin (k3_t80_loop i v342 v348).trips) : Fin 2 → Nat :=
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let c256_i32_561 : BitVec 32 := 256#32
  let c0_i32_560 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c256_i32_559 : BitVec 32 := 256#32
  let v986 : BitVec 32 := Scalar.subi v352 c256_i32_559
  let v987 : BitVec 32 := Scalar.maxsi c0_i32_560 v986
  let v988 : BitVec 32 := Scalar.minsi c256_i32_561 v987
  let v1805 : BitVec 32 := Scalar.subi v988 v985
  let c1_i32_1195 : BitVec 32 := 1#32
  let v1807 : BitVec 32 := Scalar.divsi v1805 c1_i32_1195
  let v1808 : BitVec 32 := Scalar.muli v1807 c1_i32_1195
  let v1809 : BitVec 32 := Scalar.addi v985 v1808
  let c1_i32_1197 : BitVec 32 := 1#32
  let arg13 : BitVec 32 := Scf.iv v1809 c1_i32_1197 k3_t80
  let v1828 : Index := Scalar.indexCast arg13
  let c64 : Index := 64#32
  ![v1828.toNat, 64]
def k3_off320 (i : grid3.Coords) (v342 : BitVec 32) (v348 : BitVec 32) (k3_t80 : Fin (k3_t80_loop i v342 v348).trips) : Fin 2 → Nat :=
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let c256_i32_561 : BitVec 32 := 256#32
  let c0_i32_560 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c256_i32_559 : BitVec 32 := 256#32
  let v986 : BitVec 32 := Scalar.subi v352 c256_i32_559
  let v987 : BitVec 32 := Scalar.maxsi c0_i32_560 v986
  let v988 : BitVec 32 := Scalar.minsi c256_i32_561 v987
  let v1805 : BitVec 32 := Scalar.subi v988 v985
  let c1_i32_1195 : BitVec 32 := 1#32
  let v1807 : BitVec 32 := Scalar.divsi v1805 c1_i32_1195
  let v1808 : BitVec 32 := Scalar.muli v1807 c1_i32_1195
  let v1809 : BitVec 32 := Scalar.addi v985 v1808
  let c1_i32_1197 : BitVec 32 := 1#32
  let arg13 : BitVec 32 := Scf.iv v1809 c1_i32_1197 k3_t80
  let v1832 : Index := Scalar.indexCast arg13
  let c80 : Index := 80#32
  ![v1832.toNat, 80]
def k3_off321 (i : grid3.Coords) (v342 : BitVec 32) (v348 : BitVec 32) (k3_t80 : Fin (k3_t80_loop i v342 v348).trips) : Fin 2 → Nat :=
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let c256_i32_561 : BitVec 32 := 256#32
  let c0_i32_560 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c256_i32_559 : BitVec 32 := 256#32
  let v986 : BitVec 32 := Scalar.subi v352 c256_i32_559
  let v987 : BitVec 32 := Scalar.maxsi c0_i32_560 v986
  let v988 : BitVec 32 := Scalar.minsi c256_i32_561 v987
  let v1805 : BitVec 32 := Scalar.subi v988 v985
  let c1_i32_1195 : BitVec 32 := 1#32
  let v1807 : BitVec 32 := Scalar.divsi v1805 c1_i32_1195
  let v1808 : BitVec 32 := Scalar.muli v1807 c1_i32_1195
  let v1809 : BitVec 32 := Scalar.addi v985 v1808
  let c1_i32_1197 : BitVec 32 := 1#32
  let arg13 : BitVec 32 := Scf.iv v1809 c1_i32_1197 k3_t80
  let v1836 : Index := Scalar.indexCast arg13
  let c96 : Index := 96#32
  ![v1836.toNat, 96]
def k3_off322 (i : grid3.Coords) (v342 : BitVec 32) (v348 : BitVec 32) (k3_t80 : Fin (k3_t80_loop i v342 v348).trips) : Fin 2 → Nat :=
  let c256_i32_558 : BitVec 32 := 256#32
  let c0_i32_557 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c256_i32_556 : BitVec 32 := 256#32
  let v983 : BitVec 32 := Scalar.subi v346 c256_i32_556
  let v984 : BitVec 32 := Scalar.maxsi c0_i32_557 v983
  let v985 : BitVec 32 := Scalar.minsi c256_i32_558 v984
  let c256_i32_561 : BitVec 32 := 256#32
  let c0_i32_560 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c256_i32_559 : BitVec 32 := 256#32
  let v986 : BitVec 32 := Scalar.subi v352 c256_i32_559
  let v987 : BitVec 32 := Scalar.maxsi c0_i32_560 v986
  let v988 : BitVec 32 := Scalar.minsi c256_i32_561 v987
  let v1805 : BitVec 32 := Scalar.subi v988 v985
  let c1_i32_1195 : BitVec 32 := 1#32
  let v1807 : BitVec 32 := Scalar.divsi v1805 c1_i32_1195
  let v1808 : BitVec 32 := Scalar.muli v1807 c1_i32_1195
  let v1809 : BitVec 32 := Scalar.addi v985 v1808
  let c1_i32_1197 : BitVec 32 := 1#32
  let arg13 : BitVec 32 := Scf.iv v1809 c1_i32_1197 k3_t80
  let v1840 : Index := Scalar.indexCast arg13
  let c112 : Index := 112#32
  ![v1840.toNat, 112]
@[reducible] def k3_t81_loop (i : grid3.Coords) (v354 : BitVec 32) (v359 : BitVec 32) : Scf.Loop 32 :=
  let c256_i32_565 : BitVec 32 := 256#32
  let c0_i32_564 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let c256_i32_568 : BitVec 32 := 256#32
  let c0_i32_567 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c256_i32_566 : BitVec 32 := 256#32
  let v995 : BitVec 32 := Scalar.subi v362 c256_i32_566
  let v996 : BitVec 32 := Scalar.maxsi c0_i32_567 v995
  let v997 : BitVec 32 := Scalar.minsi c256_i32_568 v996
  let v1805 : BitVec 32 := Scalar.subi v997 v994
  let c1_i32_1195 : BitVec 32 := 1#32
  let v1807 : BitVec 32 := Scalar.divsi v1805 c1_i32_1195
  let v1808 : BitVec 32 := Scalar.muli v1807 c1_i32_1195
  let v1809 : BitVec 32 := Scalar.addi v994 v1808
  let c1_i32_1196 : BitVec 32 := 1#32
  ⟨v994, v1809, c1_i32_1196⟩
def k3_cond41 (i : grid3.Coords) (v354 : BitVec 32) (v359 : BitVec 32) : BitVec 1 :=
  let c256_i32_568 : BitVec 32 := 256#32
  let c0_i32_567 : BitVec 32 := 0#32
  let c1024_i32_153 : BitVec 32 := 1024#32
  let c0_i32_152 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v360 : BitVec 32 := Scalar.subi v359 v3
  let v361 : BitVec 32 := Scalar.maxsi c0_i32_152 v360
  let v362 : BitVec 32 := Scalar.minsi c1024_i32_153 v361
  let c256_i32_566 : BitVec 32 := 256#32
  let v995 : BitVec 32 := Scalar.subi v362 c256_i32_566
  let v996 : BitVec 32 := Scalar.maxsi c0_i32_567 v995
  let v997 : BitVec 32 := Scalar.minsi c256_i32_568 v996
  let c256_i32_565 : BitVec 32 := 256#32
  let c0_i32_564 : BitVec 32 := 0#32
  let c1024_i32_151 : BitVec 32 := 1024#32
  let c0_i32_150 : BitVec 32 := 0#32
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let v998 : BitVec 1 := Scalar.cmpi .sgt v997 v994
  let v999 : BitVec 32 := Scalar.extui v998
  let c0_i32_569 : BitVec 32 := 0#32
  let v1000 : BitVec 1 := Scalar.cmpi .ne v999 c0_i32_569
  v1000

def k3_off323 (i : grid3.Coords) (v354 : BitVec 32) (v359 : BitVec 32) (k3_t81 : Fin (k3_t81_loop i v354 v359).trips) : Fin 2 → Nat :=
  let c256_i32_565 : BitVec 32 := 256#32
  let c0_i32_564 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let c1_i32_1196 : BitVec 32 := 1#32
  let arg13 : BitVec 32 := Scf.iv v994 c1_i32_1196 k3_t81
  let v1828 : Index := Scalar.indexCast arg13
  let c0_1206 : Index := 0#32
  ![v1828.toNat, 0]
def k3_off324 (i : grid3.Coords) (v354 : BitVec 32) (v359 : BitVec 32) (k3_t81 : Fin (k3_t81_loop i v354 v359).trips) : Fin 2 → Nat :=
  let c256_i32_565 : BitVec 32 := 256#32
  let c0_i32_564 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let c1_i32_1196 : BitVec 32 := 1#32
  let arg13 : BitVec 32 := Scf.iv v994 c1_i32_1196 k3_t81
  let v1832 : Index := Scalar.indexCast arg13
  let c16_1207 : Index := 16#32
  ![v1832.toNat, 16]
def k3_off325 (i : grid3.Coords) (v354 : BitVec 32) (v359 : BitVec 32) (k3_t81 : Fin (k3_t81_loop i v354 v359).trips) : Fin 2 → Nat :=
  let c256_i32_565 : BitVec 32 := 256#32
  let c0_i32_564 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let c1_i32_1196 : BitVec 32 := 1#32
  let arg13 : BitVec 32 := Scf.iv v994 c1_i32_1196 k3_t81
  let v1836 : Index := Scalar.indexCast arg13
  let c32_1208 : Index := 32#32
  ![v1836.toNat, 32]
def k3_off326 (i : grid3.Coords) (v354 : BitVec 32) (v359 : BitVec 32) (k3_t81 : Fin (k3_t81_loop i v354 v359).trips) : Fin 2 → Nat :=
  let c256_i32_565 : BitVec 32 := 256#32
  let c0_i32_564 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let c1_i32_1196 : BitVec 32 := 1#32
  let arg13 : BitVec 32 := Scf.iv v994 c1_i32_1196 k3_t81
  let v1840 : Index := Scalar.indexCast arg13
  let c48_1209 : Index := 48#32
  ![v1840.toNat, 48]
@[reducible] def k3_t82_loop (i : grid3.Coords) (v354 : BitVec 32) (v359 : BitVec 32) : Scf.Loop 32 :=
  let c256_i32_565 : BitVec 32 := 256#32
  let c0_i32_564 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let c256_i32_568 : BitVec 32 := 256#32
  let c0_i32_567 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c256_i32_566 : BitVec 32 := 256#32
  let v995 : BitVec 32 := Scalar.subi v362 c256_i32_566
  let v996 : BitVec 32 := Scalar.maxsi c0_i32_567 v995
  let v997 : BitVec 32 := Scalar.minsi c256_i32_568 v996
  let v1805 : BitVec 32 := Scalar.subi v997 v994
  let c1_i32_1195 : BitVec 32 := 1#32
  let v1807 : BitVec 32 := Scalar.divsi v1805 c1_i32_1195
  let v1808 : BitVec 32 := Scalar.muli v1807 c1_i32_1195
  let v1809 : BitVec 32 := Scalar.addi v994 v1808
  let v1806 : BitVec 32 := Scalar.addi v994 v1805
  let c1_i32_1197 : BitVec 32 := 1#32
  ⟨v1809, v1806, c1_i32_1197⟩
def k3_off327 (i : grid3.Coords) (v354 : BitVec 32) (v359 : BitVec 32) (k3_t82 : Fin (k3_t82_loop i v354 v359).trips) : Fin 2 → Nat :=
  let c256_i32_565 : BitVec 32 := 256#32
  let c0_i32_564 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let c256_i32_568 : BitVec 32 := 256#32
  let c0_i32_567 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c256_i32_566 : BitVec 32 := 256#32
  let v995 : BitVec 32 := Scalar.subi v362 c256_i32_566
  let v996 : BitVec 32 := Scalar.maxsi c0_i32_567 v995
  let v997 : BitVec 32 := Scalar.minsi c256_i32_568 v996
  let v1805 : BitVec 32 := Scalar.subi v997 v994
  let c1_i32_1195 : BitVec 32 := 1#32
  let v1807 : BitVec 32 := Scalar.divsi v1805 c1_i32_1195
  let v1808 : BitVec 32 := Scalar.muli v1807 c1_i32_1195
  let v1809 : BitVec 32 := Scalar.addi v994 v1808
  let c1_i32_1197 : BitVec 32 := 1#32
  let arg13 : BitVec 32 := Scf.iv v1809 c1_i32_1197 k3_t82
  let v1828 : Index := Scalar.indexCast arg13
  let c0_1206 : Index := 0#32
  ![v1828.toNat, 0]
def k3_off328 (i : grid3.Coords) (v354 : BitVec 32) (v359 : BitVec 32) (k3_t82 : Fin (k3_t82_loop i v354 v359).trips) : Fin 2 → Nat :=
  let c256_i32_565 : BitVec 32 := 256#32
  let c0_i32_564 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let c256_i32_568 : BitVec 32 := 256#32
  let c0_i32_567 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c256_i32_566 : BitVec 32 := 256#32
  let v995 : BitVec 32 := Scalar.subi v362 c256_i32_566
  let v996 : BitVec 32 := Scalar.maxsi c0_i32_567 v995
  let v997 : BitVec 32 := Scalar.minsi c256_i32_568 v996
  let v1805 : BitVec 32 := Scalar.subi v997 v994
  let c1_i32_1195 : BitVec 32 := 1#32
  let v1807 : BitVec 32 := Scalar.divsi v1805 c1_i32_1195
  let v1808 : BitVec 32 := Scalar.muli v1807 c1_i32_1195
  let v1809 : BitVec 32 := Scalar.addi v994 v1808
  let c1_i32_1197 : BitVec 32 := 1#32
  let arg13 : BitVec 32 := Scf.iv v1809 c1_i32_1197 k3_t82
  let v1832 : Index := Scalar.indexCast arg13
  let c16_1207 : Index := 16#32
  ![v1832.toNat, 16]
def k3_off329 (i : grid3.Coords) (v354 : BitVec 32) (v359 : BitVec 32) (k3_t82 : Fin (k3_t82_loop i v354 v359).trips) : Fin 2 → Nat :=
  let c256_i32_565 : BitVec 32 := 256#32
  let c0_i32_564 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let c256_i32_568 : BitVec 32 := 256#32
  let c0_i32_567 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c256_i32_566 : BitVec 32 := 256#32
  let v995 : BitVec 32 := Scalar.subi v362 c256_i32_566
  let v996 : BitVec 32 := Scalar.maxsi c0_i32_567 v995
  let v997 : BitVec 32 := Scalar.minsi c256_i32_568 v996
  let v1805 : BitVec 32 := Scalar.subi v997 v994
  let c1_i32_1195 : BitVec 32 := 1#32
  let v1807 : BitVec 32 := Scalar.divsi v1805 c1_i32_1195
  let v1808 : BitVec 32 := Scalar.muli v1807 c1_i32_1195
  let v1809 : BitVec 32 := Scalar.addi v994 v1808
  let c1_i32_1197 : BitVec 32 := 1#32
  let arg13 : BitVec 32 := Scf.iv v1809 c1_i32_1197 k3_t82
  let v1836 : Index := Scalar.indexCast arg13
  let c32_1208 : Index := 32#32
  ![v1836.toNat, 32]
def k3_off330 (i : grid3.Coords) (v354 : BitVec 32) (v359 : BitVec 32) (k3_t82 : Fin (k3_t82_loop i v354 v359).trips) : Fin 2 → Nat :=
  let c256_i32_565 : BitVec 32 := 256#32
  let c0_i32_564 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c256_i32_563 : BitVec 32 := 256#32
  let v992 : BitVec 32 := Scalar.subi v357 c256_i32_563
  let v993 : BitVec 32 := Scalar.maxsi c0_i32_564 v992
  let v994 : BitVec 32 := Scalar.minsi c256_i32_565 v993
  let c256_i32_568 : BitVec 32 := 256#32
  let c0_i32_567 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c256_i32_566 : BitVec 32 := 256#32
  let v995 : BitVec 32 := Scalar.subi v362 c256_i32_566
  let v996 : BitVec 32 := Scalar.maxsi c0_i32_567 v995
  let v997 : BitVec 32 := Scalar.minsi c256_i32_568 v996
  let v1805 : BitVec 32 := Scalar.subi v997 v994
  let c1_i32_1195 : BitVec 32 := 1#32
  let v1807 : BitVec 32 := Scalar.divsi v1805 c1_i32_1195
  let v1808 : BitVec 32 := Scalar.muli v1807 c1_i32_1195
  let v1809 : BitVec 32 := Scalar.addi v994 v1808
  let c1_i32_1197 : BitVec 32 := 1#32
  let arg13 : BitVec 32 := Scf.iv v1809 c1_i32_1197 k3_t82
  let v1840 : Index := Scalar.indexCast arg13
  let c48_1209 : Index := 48#32
  ![v1840.toNat, 48]
@[reducible] def k3_t83_loop (i : grid3.Coords) (v364 : BitVec 32) (v370 : BitVec 32) : Scf.Loop 32 :=
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let c256_i32_575 : BitVec 32 := 256#32
  let c0_i32_574 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c256_i32_573 : BitVec 32 := 256#32
  let v1004 : BitVec 32 := Scalar.subi v374 c256_i32_573
  let v1005 : BitVec 32 := Scalar.maxsi c0_i32_574 v1004
  let v1006 : BitVec 32 := Scalar.minsi c256_i32_575 v1005
  let v1805 : BitVec 32 := Scalar.subi v1006 v1003
  let c1_i32_1195 : BitVec 32 := 1#32
  let v1807 : BitVec 32 := Scalar.divsi v1805 c1_i32_1195
  let v1808 : BitVec 32 := Scalar.muli v1807 c1_i32_1195
  let v1809 : BitVec 32 := Scalar.addi v1003 v1808
  let c1_i32_1196 : BitVec 32 := 1#32
  ⟨v1003, v1809, c1_i32_1196⟩
def k3_cond42 (i : grid3.Coords) (v364 : BitVec 32) (v370 : BitVec 32) : BitVec 1 :=
  let c256_i32_575 : BitVec 32 := 256#32
  let c0_i32_574 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v372 : BitVec 32 := Scalar.subi v371 v3
  let v373 : BitVec 32 := Scalar.maxsi c0_i32_158 v372
  let v374 : BitVec 32 := Scalar.minsi c1024_i32_159 v373
  let c256_i32_573 : BitVec 32 := 256#32
  let v1004 : BitVec 32 := Scalar.subi v374 c256_i32_573
  let v1005 : BitVec 32 := Scalar.maxsi c0_i32_574 v1004
  let v1006 : BitVec 32 := Scalar.minsi c256_i32_575 v1005
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let v1007 : BitVec 1 := Scalar.cmpi .sgt v1006 v1003
  let v1008 : BitVec 32 := Scalar.extui v1007
  let c0_i32_576 : BitVec 32 := 0#32
  let v1009 : BitVec 1 := Scalar.cmpi .ne v1008 c0_i32_576
  v1009

def k3_off331 (i : grid3.Coords) (v364 : BitVec 32) (v370 : BitVec 32) (k3_t83 : Fin (k3_t83_loop i v364 v370).trips) : Fin 2 → Nat :=
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let c1_i32_1196 : BitVec 32 := 1#32
  let arg13 : BitVec 32 := Scf.iv v1003 c1_i32_1196 k3_t83
  let v1828 : Index := Scalar.indexCast arg13
  let c64 : Index := 64#32
  ![v1828.toNat, 64]
def k3_off332 (i : grid3.Coords) (v364 : BitVec 32) (v370 : BitVec 32) (k3_t83 : Fin (k3_t83_loop i v364 v370).trips) : Fin 2 → Nat :=
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let c1_i32_1196 : BitVec 32 := 1#32
  let arg13 : BitVec 32 := Scf.iv v1003 c1_i32_1196 k3_t83
  let v1832 : Index := Scalar.indexCast arg13
  let c80 : Index := 80#32
  ![v1832.toNat, 80]
def k3_off333 (i : grid3.Coords) (v364 : BitVec 32) (v370 : BitVec 32) (k3_t83 : Fin (k3_t83_loop i v364 v370).trips) : Fin 2 → Nat :=
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let c1_i32_1196 : BitVec 32 := 1#32
  let arg13 : BitVec 32 := Scf.iv v1003 c1_i32_1196 k3_t83
  let v1836 : Index := Scalar.indexCast arg13
  let c96 : Index := 96#32
  ![v1836.toNat, 96]
def k3_off334 (i : grid3.Coords) (v364 : BitVec 32) (v370 : BitVec 32) (k3_t83 : Fin (k3_t83_loop i v364 v370).trips) : Fin 2 → Nat :=
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let c1_i32_1196 : BitVec 32 := 1#32
  let arg13 : BitVec 32 := Scf.iv v1003 c1_i32_1196 k3_t83
  let v1840 : Index := Scalar.indexCast arg13
  let c112 : Index := 112#32
  ![v1840.toNat, 112]
@[reducible] def k3_t84_loop (i : grid3.Coords) (v364 : BitVec 32) (v370 : BitVec 32) : Scf.Loop 32 :=
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let c256_i32_575 : BitVec 32 := 256#32
  let c0_i32_574 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c256_i32_573 : BitVec 32 := 256#32
  let v1004 : BitVec 32 := Scalar.subi v374 c256_i32_573
  let v1005 : BitVec 32 := Scalar.maxsi c0_i32_574 v1004
  let v1006 : BitVec 32 := Scalar.minsi c256_i32_575 v1005
  let v1805 : BitVec 32 := Scalar.subi v1006 v1003
  let c1_i32_1195 : BitVec 32 := 1#32
  let v1807 : BitVec 32 := Scalar.divsi v1805 c1_i32_1195
  let v1808 : BitVec 32 := Scalar.muli v1807 c1_i32_1195
  let v1809 : BitVec 32 := Scalar.addi v1003 v1808
  let v1806 : BitVec 32 := Scalar.addi v1003 v1805
  let c1_i32_1197 : BitVec 32 := 1#32
  ⟨v1809, v1806, c1_i32_1197⟩
def k3_off335 (i : grid3.Coords) (v364 : BitVec 32) (v370 : BitVec 32) (k3_t84 : Fin (k3_t84_loop i v364 v370).trips) : Fin 2 → Nat :=
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let c256_i32_575 : BitVec 32 := 256#32
  let c0_i32_574 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c256_i32_573 : BitVec 32 := 256#32
  let v1004 : BitVec 32 := Scalar.subi v374 c256_i32_573
  let v1005 : BitVec 32 := Scalar.maxsi c0_i32_574 v1004
  let v1006 : BitVec 32 := Scalar.minsi c256_i32_575 v1005
  let v1805 : BitVec 32 := Scalar.subi v1006 v1003
  let c1_i32_1195 : BitVec 32 := 1#32
  let v1807 : BitVec 32 := Scalar.divsi v1805 c1_i32_1195
  let v1808 : BitVec 32 := Scalar.muli v1807 c1_i32_1195
  let v1809 : BitVec 32 := Scalar.addi v1003 v1808
  let c1_i32_1197 : BitVec 32 := 1#32
  let arg13 : BitVec 32 := Scf.iv v1809 c1_i32_1197 k3_t84
  let v1828 : Index := Scalar.indexCast arg13
  let c64 : Index := 64#32
  ![v1828.toNat, 64]
def k3_off336 (i : grid3.Coords) (v364 : BitVec 32) (v370 : BitVec 32) (k3_t84 : Fin (k3_t84_loop i v364 v370).trips) : Fin 2 → Nat :=
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let c256_i32_575 : BitVec 32 := 256#32
  let c0_i32_574 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c256_i32_573 : BitVec 32 := 256#32
  let v1004 : BitVec 32 := Scalar.subi v374 c256_i32_573
  let v1005 : BitVec 32 := Scalar.maxsi c0_i32_574 v1004
  let v1006 : BitVec 32 := Scalar.minsi c256_i32_575 v1005
  let v1805 : BitVec 32 := Scalar.subi v1006 v1003
  let c1_i32_1195 : BitVec 32 := 1#32
  let v1807 : BitVec 32 := Scalar.divsi v1805 c1_i32_1195
  let v1808 : BitVec 32 := Scalar.muli v1807 c1_i32_1195
  let v1809 : BitVec 32 := Scalar.addi v1003 v1808
  let c1_i32_1197 : BitVec 32 := 1#32
  let arg13 : BitVec 32 := Scf.iv v1809 c1_i32_1197 k3_t84
  let v1832 : Index := Scalar.indexCast arg13
  let c80 : Index := 80#32
  ![v1832.toNat, 80]
def k3_off337 (i : grid3.Coords) (v364 : BitVec 32) (v370 : BitVec 32) (k3_t84 : Fin (k3_t84_loop i v364 v370).trips) : Fin 2 → Nat :=
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let c256_i32_575 : BitVec 32 := 256#32
  let c0_i32_574 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c256_i32_573 : BitVec 32 := 256#32
  let v1004 : BitVec 32 := Scalar.subi v374 c256_i32_573
  let v1005 : BitVec 32 := Scalar.maxsi c0_i32_574 v1004
  let v1006 : BitVec 32 := Scalar.minsi c256_i32_575 v1005
  let v1805 : BitVec 32 := Scalar.subi v1006 v1003
  let c1_i32_1195 : BitVec 32 := 1#32
  let v1807 : BitVec 32 := Scalar.divsi v1805 c1_i32_1195
  let v1808 : BitVec 32 := Scalar.muli v1807 c1_i32_1195
  let v1809 : BitVec 32 := Scalar.addi v1003 v1808
  let c1_i32_1197 : BitVec 32 := 1#32
  let arg13 : BitVec 32 := Scf.iv v1809 c1_i32_1197 k3_t84
  let v1836 : Index := Scalar.indexCast arg13
  let c96 : Index := 96#32
  ![v1836.toNat, 96]
def k3_off338 (i : grid3.Coords) (v364 : BitVec 32) (v370 : BitVec 32) (k3_t84 : Fin (k3_t84_loop i v364 v370).trips) : Fin 2 → Nat :=
  let c256_i32_572 : BitVec 32 := 256#32
  let c0_i32_571 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c256_i32_570 : BitVec 32 := 256#32
  let v1001 : BitVec 32 := Scalar.subi v368 c256_i32_570
  let v1002 : BitVec 32 := Scalar.maxsi c0_i32_571 v1001
  let v1003 : BitVec 32 := Scalar.minsi c256_i32_572 v1002
  let c256_i32_575 : BitVec 32 := 256#32
  let c0_i32_574 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c256_i32_573 : BitVec 32 := 256#32
  let v1004 : BitVec 32 := Scalar.subi v374 c256_i32_573
  let v1005 : BitVec 32 := Scalar.maxsi c0_i32_574 v1004
  let v1006 : BitVec 32 := Scalar.minsi c256_i32_575 v1005
  let v1805 : BitVec 32 := Scalar.subi v1006 v1003
  let c1_i32_1195 : BitVec 32 := 1#32
  let v1807 : BitVec 32 := Scalar.divsi v1805 c1_i32_1195
  let v1808 : BitVec 32 := Scalar.muli v1807 c1_i32_1195
  let v1809 : BitVec 32 := Scalar.addi v1003 v1808
  let c1_i32_1197 : BitVec 32 := 1#32
  let arg13 : BitVec 32 := Scf.iv v1809 c1_i32_1197 k3_t84
  let v1840 : Index := Scalar.indexCast arg13
  let c112 : Index := 112#32
  ![v1840.toNat, 112]
@[reducible] def k3_t85_loop (i : grid3.Coords) (v376 : BitVec 32) (v381 : BitVec 32) : Scf.Loop 32 :=
  let c256_i32_579 : BitVec 32 := 256#32
  let c0_i32_578 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let c256_i32_582 : BitVec 32 := 256#32
  let c0_i32_581 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c256_i32_580 : BitVec 32 := 256#32
  let v1013 : BitVec 32 := Scalar.subi v384 c256_i32_580
  let v1014 : BitVec 32 := Scalar.maxsi c0_i32_581 v1013
  let v1015 : BitVec 32 := Scalar.minsi c256_i32_582 v1014
  let v1805 : BitVec 32 := Scalar.subi v1015 v1012
  let c1_i32_1195 : BitVec 32 := 1#32
  let v1807 : BitVec 32 := Scalar.divsi v1805 c1_i32_1195
  let v1808 : BitVec 32 := Scalar.muli v1807 c1_i32_1195
  let v1809 : BitVec 32 := Scalar.addi v1012 v1808
  let c1_i32_1196 : BitVec 32 := 1#32
  ⟨v1012, v1809, c1_i32_1196⟩
def k3_cond43 (i : grid3.Coords) (v376 : BitVec 32) (v381 : BitVec 32) : BitVec 1 :=
  let c256_i32_582 : BitVec 32 := 256#32
  let c0_i32_581 : BitVec 32 := 0#32
  let c1024_i32_163 : BitVec 32 := 1024#32
  let c0_i32_162 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v382 : BitVec 32 := Scalar.subi v381 v3
  let v383 : BitVec 32 := Scalar.maxsi c0_i32_162 v382
  let v384 : BitVec 32 := Scalar.minsi c1024_i32_163 v383
  let c256_i32_580 : BitVec 32 := 256#32
  let v1013 : BitVec 32 := Scalar.subi v384 c256_i32_580
  let v1014 : BitVec 32 := Scalar.maxsi c0_i32_581 v1013
  let v1015 : BitVec 32 := Scalar.minsi c256_i32_582 v1014
  let c256_i32_579 : BitVec 32 := 256#32
  let c0_i32_578 : BitVec 32 := 0#32
  let c1024_i32_161 : BitVec 32 := 1024#32
  let c0_i32_160 : BitVec 32 := 0#32
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let v1016 : BitVec 1 := Scalar.cmpi .sgt v1015 v1012
  let v1017 : BitVec 32 := Scalar.extui v1016
  let c0_i32_583 : BitVec 32 := 0#32
  let v1018 : BitVec 1 := Scalar.cmpi .ne v1017 c0_i32_583
  v1018

def k3_off339 (i : grid3.Coords) (v376 : BitVec 32) (v381 : BitVec 32) (k3_t85 : Fin (k3_t85_loop i v376 v381).trips) : Fin 2 → Nat :=
  let c256_i32_579 : BitVec 32 := 256#32
  let c0_i32_578 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let c1_i32_1196 : BitVec 32 := 1#32
  let arg13 : BitVec 32 := Scf.iv v1012 c1_i32_1196 k3_t85
  let v1828 : Index := Scalar.indexCast arg13
  let c0_1206 : Index := 0#32
  ![v1828.toNat, 0]
def k3_off340 (i : grid3.Coords) (v376 : BitVec 32) (v381 : BitVec 32) (k3_t85 : Fin (k3_t85_loop i v376 v381).trips) : Fin 2 → Nat :=
  let c256_i32_579 : BitVec 32 := 256#32
  let c0_i32_578 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let c1_i32_1196 : BitVec 32 := 1#32
  let arg13 : BitVec 32 := Scf.iv v1012 c1_i32_1196 k3_t85
  let v1832 : Index := Scalar.indexCast arg13
  let c16_1207 : Index := 16#32
  ![v1832.toNat, 16]
def k3_off341 (i : grid3.Coords) (v376 : BitVec 32) (v381 : BitVec 32) (k3_t85 : Fin (k3_t85_loop i v376 v381).trips) : Fin 2 → Nat :=
  let c256_i32_579 : BitVec 32 := 256#32
  let c0_i32_578 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let c1_i32_1196 : BitVec 32 := 1#32
  let arg13 : BitVec 32 := Scf.iv v1012 c1_i32_1196 k3_t85
  let v1836 : Index := Scalar.indexCast arg13
  let c32_1208 : Index := 32#32
  ![v1836.toNat, 32]
def k3_off342 (i : grid3.Coords) (v376 : BitVec 32) (v381 : BitVec 32) (k3_t85 : Fin (k3_t85_loop i v376 v381).trips) : Fin 2 → Nat :=
  let c256_i32_579 : BitVec 32 := 256#32
  let c0_i32_578 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let c1_i32_1196 : BitVec 32 := 1#32
  let arg13 : BitVec 32 := Scf.iv v1012 c1_i32_1196 k3_t85
  let v1840 : Index := Scalar.indexCast arg13
  let c48_1209 : Index := 48#32
  ![v1840.toNat, 48]
@[reducible] def k3_t86_loop (i : grid3.Coords) (v376 : BitVec 32) (v381 : BitVec 32) : Scf.Loop 32 :=
  let c256_i32_579 : BitVec 32 := 256#32
  let c0_i32_578 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let c256_i32_582 : BitVec 32 := 256#32
  let c0_i32_581 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c256_i32_580 : BitVec 32 := 256#32
  let v1013 : BitVec 32 := Scalar.subi v384 c256_i32_580
  let v1014 : BitVec 32 := Scalar.maxsi c0_i32_581 v1013
  let v1015 : BitVec 32 := Scalar.minsi c256_i32_582 v1014
  let v1805 : BitVec 32 := Scalar.subi v1015 v1012
  let c1_i32_1195 : BitVec 32 := 1#32
  let v1807 : BitVec 32 := Scalar.divsi v1805 c1_i32_1195
  let v1808 : BitVec 32 := Scalar.muli v1807 c1_i32_1195
  let v1809 : BitVec 32 := Scalar.addi v1012 v1808
  let v1806 : BitVec 32 := Scalar.addi v1012 v1805
  let c1_i32_1197 : BitVec 32 := 1#32
  ⟨v1809, v1806, c1_i32_1197⟩
def k3_off343 (i : grid3.Coords) (v376 : BitVec 32) (v381 : BitVec 32) (k3_t86 : Fin (k3_t86_loop i v376 v381).trips) : Fin 2 → Nat :=
  let c256_i32_579 : BitVec 32 := 256#32
  let c0_i32_578 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let c256_i32_582 : BitVec 32 := 256#32
  let c0_i32_581 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c256_i32_580 : BitVec 32 := 256#32
  let v1013 : BitVec 32 := Scalar.subi v384 c256_i32_580
  let v1014 : BitVec 32 := Scalar.maxsi c0_i32_581 v1013
  let v1015 : BitVec 32 := Scalar.minsi c256_i32_582 v1014
  let v1805 : BitVec 32 := Scalar.subi v1015 v1012
  let c1_i32_1195 : BitVec 32 := 1#32
  let v1807 : BitVec 32 := Scalar.divsi v1805 c1_i32_1195
  let v1808 : BitVec 32 := Scalar.muli v1807 c1_i32_1195
  let v1809 : BitVec 32 := Scalar.addi v1012 v1808
  let c1_i32_1197 : BitVec 32 := 1#32
  let arg13 : BitVec 32 := Scf.iv v1809 c1_i32_1197 k3_t86
  let v1828 : Index := Scalar.indexCast arg13
  let c0_1206 : Index := 0#32
  ![v1828.toNat, 0]
def k3_off344 (i : grid3.Coords) (v376 : BitVec 32) (v381 : BitVec 32) (k3_t86 : Fin (k3_t86_loop i v376 v381).trips) : Fin 2 → Nat :=
  let c256_i32_579 : BitVec 32 := 256#32
  let c0_i32_578 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let c256_i32_582 : BitVec 32 := 256#32
  let c0_i32_581 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c256_i32_580 : BitVec 32 := 256#32
  let v1013 : BitVec 32 := Scalar.subi v384 c256_i32_580
  let v1014 : BitVec 32 := Scalar.maxsi c0_i32_581 v1013
  let v1015 : BitVec 32 := Scalar.minsi c256_i32_582 v1014
  let v1805 : BitVec 32 := Scalar.subi v1015 v1012
  let c1_i32_1195 : BitVec 32 := 1#32
  let v1807 : BitVec 32 := Scalar.divsi v1805 c1_i32_1195
  let v1808 : BitVec 32 := Scalar.muli v1807 c1_i32_1195
  let v1809 : BitVec 32 := Scalar.addi v1012 v1808
  let c1_i32_1197 : BitVec 32 := 1#32
  let arg13 : BitVec 32 := Scf.iv v1809 c1_i32_1197 k3_t86
  let v1832 : Index := Scalar.indexCast arg13
  let c16_1207 : Index := 16#32
  ![v1832.toNat, 16]
def k3_off345 (i : grid3.Coords) (v376 : BitVec 32) (v381 : BitVec 32) (k3_t86 : Fin (k3_t86_loop i v376 v381).trips) : Fin 2 → Nat :=
  let c256_i32_579 : BitVec 32 := 256#32
  let c0_i32_578 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let c256_i32_582 : BitVec 32 := 256#32
  let c0_i32_581 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c256_i32_580 : BitVec 32 := 256#32
  let v1013 : BitVec 32 := Scalar.subi v384 c256_i32_580
  let v1014 : BitVec 32 := Scalar.maxsi c0_i32_581 v1013
  let v1015 : BitVec 32 := Scalar.minsi c256_i32_582 v1014
  let v1805 : BitVec 32 := Scalar.subi v1015 v1012
  let c1_i32_1195 : BitVec 32 := 1#32
  let v1807 : BitVec 32 := Scalar.divsi v1805 c1_i32_1195
  let v1808 : BitVec 32 := Scalar.muli v1807 c1_i32_1195
  let v1809 : BitVec 32 := Scalar.addi v1012 v1808
  let c1_i32_1197 : BitVec 32 := 1#32
  let arg13 : BitVec 32 := Scf.iv v1809 c1_i32_1197 k3_t86
  let v1836 : Index := Scalar.indexCast arg13
  let c32_1208 : Index := 32#32
  ![v1836.toNat, 32]
def k3_off346 (i : grid3.Coords) (v376 : BitVec 32) (v381 : BitVec 32) (k3_t86 : Fin (k3_t86_loop i v376 v381).trips) : Fin 2 → Nat :=
  let c256_i32_579 : BitVec 32 := 256#32
  let c0_i32_578 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c256_i32_577 : BitVec 32 := 256#32
  let v1010 : BitVec 32 := Scalar.subi v379 c256_i32_577
  let v1011 : BitVec 32 := Scalar.maxsi c0_i32_578 v1010
  let v1012 : BitVec 32 := Scalar.minsi c256_i32_579 v1011
  let c256_i32_582 : BitVec 32 := 256#32
  let c0_i32_581 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c256_i32_580 : BitVec 32 := 256#32
  let v1013 : BitVec 32 := Scalar.subi v384 c256_i32_580
  let v1014 : BitVec 32 := Scalar.maxsi c0_i32_581 v1013
  let v1015 : BitVec 32 := Scalar.minsi c256_i32_582 v1014
  let v1805 : BitVec 32 := Scalar.subi v1015 v1012
  let c1_i32_1195 : BitVec 32 := 1#32
  let v1807 : BitVec 32 := Scalar.divsi v1805 c1_i32_1195
  let v1808 : BitVec 32 := Scalar.muli v1807 c1_i32_1195
  let v1809 : BitVec 32 := Scalar.addi v1012 v1808
  let c1_i32_1197 : BitVec 32 := 1#32
  let arg13 : BitVec 32 := Scf.iv v1809 c1_i32_1197 k3_t86
  let v1840 : Index := Scalar.indexCast arg13
  let c48_1209 : Index := 48#32
  ![v1840.toNat, 48]
@[reducible] def k3_t87_loop (i : grid3.Coords) (v386 : BitVec 32) (v392 : BitVec 32) : Scf.Loop 32 :=
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let c256_i32_589 : BitVec 32 := 256#32
  let c0_i32_588 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c256_i32_587 : BitVec 32 := 256#32
  let v1022 : BitVec 32 := Scalar.subi v396 c256_i32_587
  let v1023 : BitVec 32 := Scalar.maxsi c0_i32_588 v1022
  let v1024 : BitVec 32 := Scalar.minsi c256_i32_589 v1023
  let v1805 : BitVec 32 := Scalar.subi v1024 v1021
  let c1_i32_1195 : BitVec 32 := 1#32
  let v1807 : BitVec 32 := Scalar.divsi v1805 c1_i32_1195
  let v1808 : BitVec 32 := Scalar.muli v1807 c1_i32_1195
  let v1809 : BitVec 32 := Scalar.addi v1021 v1808
  let c1_i32_1196 : BitVec 32 := 1#32
  ⟨v1021, v1809, c1_i32_1196⟩
def k3_cond44 (i : grid3.Coords) (v386 : BitVec 32) (v392 : BitVec 32) : BitVec 1 :=
  let c256_i32_589 : BitVec 32 := 256#32
  let c0_i32_588 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v394 : BitVec 32 := Scalar.subi v393 v3
  let v395 : BitVec 32 := Scalar.maxsi c0_i32_168 v394
  let v396 : BitVec 32 := Scalar.minsi c1024_i32_169 v395
  let c256_i32_587 : BitVec 32 := 256#32
  let v1022 : BitVec 32 := Scalar.subi v396 c256_i32_587
  let v1023 : BitVec 32 := Scalar.maxsi c0_i32_588 v1022
  let v1024 : BitVec 32 := Scalar.minsi c256_i32_589 v1023
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let v1025 : BitVec 1 := Scalar.cmpi .sgt v1024 v1021
  let v1026 : BitVec 32 := Scalar.extui v1025
  let c0_i32_590 : BitVec 32 := 0#32
  let v1027 : BitVec 1 := Scalar.cmpi .ne v1026 c0_i32_590
  v1027

def k3_off347 (i : grid3.Coords) (v386 : BitVec 32) (v392 : BitVec 32) (k3_t87 : Fin (k3_t87_loop i v386 v392).trips) : Fin 2 → Nat :=
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let c1_i32_1196 : BitVec 32 := 1#32
  let arg13 : BitVec 32 := Scf.iv v1021 c1_i32_1196 k3_t87
  let v1828 : Index := Scalar.indexCast arg13
  let c64 : Index := 64#32
  ![v1828.toNat, 64]
def k3_off348 (i : grid3.Coords) (v386 : BitVec 32) (v392 : BitVec 32) (k3_t87 : Fin (k3_t87_loop i v386 v392).trips) : Fin 2 → Nat :=
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let c1_i32_1196 : BitVec 32 := 1#32
  let arg13 : BitVec 32 := Scf.iv v1021 c1_i32_1196 k3_t87
  let v1832 : Index := Scalar.indexCast arg13
  let c80 : Index := 80#32
  ![v1832.toNat, 80]
def k3_off349 (i : grid3.Coords) (v386 : BitVec 32) (v392 : BitVec 32) (k3_t87 : Fin (k3_t87_loop i v386 v392).trips) : Fin 2 → Nat :=
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let c1_i32_1196 : BitVec 32 := 1#32
  let arg13 : BitVec 32 := Scf.iv v1021 c1_i32_1196 k3_t87
  let v1836 : Index := Scalar.indexCast arg13
  let c96 : Index := 96#32
  ![v1836.toNat, 96]
def k3_off350 (i : grid3.Coords) (v386 : BitVec 32) (v392 : BitVec 32) (k3_t87 : Fin (k3_t87_loop i v386 v392).trips) : Fin 2 → Nat :=
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let c1_i32_1196 : BitVec 32 := 1#32
  let arg13 : BitVec 32 := Scf.iv v1021 c1_i32_1196 k3_t87
  let v1840 : Index := Scalar.indexCast arg13
  let c112 : Index := 112#32
  ![v1840.toNat, 112]
@[reducible] def k3_t88_loop (i : grid3.Coords) (v386 : BitVec 32) (v392 : BitVec 32) : Scf.Loop 32 :=
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let c256_i32_589 : BitVec 32 := 256#32
  let c0_i32_588 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c256_i32_587 : BitVec 32 := 256#32
  let v1022 : BitVec 32 := Scalar.subi v396 c256_i32_587
  let v1023 : BitVec 32 := Scalar.maxsi c0_i32_588 v1022
  let v1024 : BitVec 32 := Scalar.minsi c256_i32_589 v1023
  let v1805 : BitVec 32 := Scalar.subi v1024 v1021
  let c1_i32_1195 : BitVec 32 := 1#32
  let v1807 : BitVec 32 := Scalar.divsi v1805 c1_i32_1195
  let v1808 : BitVec 32 := Scalar.muli v1807 c1_i32_1195
  let v1809 : BitVec 32 := Scalar.addi v1021 v1808
  let v1806 : BitVec 32 := Scalar.addi v1021 v1805
  let c1_i32_1197 : BitVec 32 := 1#32
  ⟨v1809, v1806, c1_i32_1197⟩
def k3_off351 (i : grid3.Coords) (v386 : BitVec 32) (v392 : BitVec 32) (k3_t88 : Fin (k3_t88_loop i v386 v392).trips) : Fin 2 → Nat :=
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let c256_i32_589 : BitVec 32 := 256#32
  let c0_i32_588 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c256_i32_587 : BitVec 32 := 256#32
  let v1022 : BitVec 32 := Scalar.subi v396 c256_i32_587
  let v1023 : BitVec 32 := Scalar.maxsi c0_i32_588 v1022
  let v1024 : BitVec 32 := Scalar.minsi c256_i32_589 v1023
  let v1805 : BitVec 32 := Scalar.subi v1024 v1021
  let c1_i32_1195 : BitVec 32 := 1#32
  let v1807 : BitVec 32 := Scalar.divsi v1805 c1_i32_1195
  let v1808 : BitVec 32 := Scalar.muli v1807 c1_i32_1195
  let v1809 : BitVec 32 := Scalar.addi v1021 v1808
  let c1_i32_1197 : BitVec 32 := 1#32
  let arg13 : BitVec 32 := Scf.iv v1809 c1_i32_1197 k3_t88
  let v1828 : Index := Scalar.indexCast arg13
  let c64 : Index := 64#32
  ![v1828.toNat, 64]
def k3_off352 (i : grid3.Coords) (v386 : BitVec 32) (v392 : BitVec 32) (k3_t88 : Fin (k3_t88_loop i v386 v392).trips) : Fin 2 → Nat :=
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let c256_i32_589 : BitVec 32 := 256#32
  let c0_i32_588 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c256_i32_587 : BitVec 32 := 256#32
  let v1022 : BitVec 32 := Scalar.subi v396 c256_i32_587
  let v1023 : BitVec 32 := Scalar.maxsi c0_i32_588 v1022
  let v1024 : BitVec 32 := Scalar.minsi c256_i32_589 v1023
  let v1805 : BitVec 32 := Scalar.subi v1024 v1021
  let c1_i32_1195 : BitVec 32 := 1#32
  let v1807 : BitVec 32 := Scalar.divsi v1805 c1_i32_1195
  let v1808 : BitVec 32 := Scalar.muli v1807 c1_i32_1195
  let v1809 : BitVec 32 := Scalar.addi v1021 v1808
  let c1_i32_1197 : BitVec 32 := 1#32
  let arg13 : BitVec 32 := Scf.iv v1809 c1_i32_1197 k3_t88
  let v1832 : Index := Scalar.indexCast arg13
  let c80 : Index := 80#32
  ![v1832.toNat, 80]
def k3_off353 (i : grid3.Coords) (v386 : BitVec 32) (v392 : BitVec 32) (k3_t88 : Fin (k3_t88_loop i v386 v392).trips) : Fin 2 → Nat :=
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let c256_i32_589 : BitVec 32 := 256#32
  let c0_i32_588 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c256_i32_587 : BitVec 32 := 256#32
  let v1022 : BitVec 32 := Scalar.subi v396 c256_i32_587
  let v1023 : BitVec 32 := Scalar.maxsi c0_i32_588 v1022
  let v1024 : BitVec 32 := Scalar.minsi c256_i32_589 v1023
  let v1805 : BitVec 32 := Scalar.subi v1024 v1021
  let c1_i32_1195 : BitVec 32 := 1#32
  let v1807 : BitVec 32 := Scalar.divsi v1805 c1_i32_1195
  let v1808 : BitVec 32 := Scalar.muli v1807 c1_i32_1195
  let v1809 : BitVec 32 := Scalar.addi v1021 v1808
  let c1_i32_1197 : BitVec 32 := 1#32
  let arg13 : BitVec 32 := Scf.iv v1809 c1_i32_1197 k3_t88
  let v1836 : Index := Scalar.indexCast arg13
  let c96 : Index := 96#32
  ![v1836.toNat, 96]
def k3_off354 (i : grid3.Coords) (v386 : BitVec 32) (v392 : BitVec 32) (k3_t88 : Fin (k3_t88_loop i v386 v392).trips) : Fin 2 → Nat :=
  let c256_i32_586 : BitVec 32 := 256#32
  let c0_i32_585 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c256_i32_584 : BitVec 32 := 256#32
  let v1019 : BitVec 32 := Scalar.subi v390 c256_i32_584
  let v1020 : BitVec 32 := Scalar.maxsi c0_i32_585 v1019
  let v1021 : BitVec 32 := Scalar.minsi c256_i32_586 v1020
  let c256_i32_589 : BitVec 32 := 256#32
  let c0_i32_588 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c256_i32_587 : BitVec 32 := 256#32
  let v1022 : BitVec 32 := Scalar.subi v396 c256_i32_587
  let v1023 : BitVec 32 := Scalar.maxsi c0_i32_588 v1022
  let v1024 : BitVec 32 := Scalar.minsi c256_i32_589 v1023
  let v1805 : BitVec 32 := Scalar.subi v1024 v1021
  let c1_i32_1195 : BitVec 32 := 1#32
  let v1807 : BitVec 32 := Scalar.divsi v1805 c1_i32_1195
  let v1808 : BitVec 32 := Scalar.muli v1807 c1_i32_1195
  let v1809 : BitVec 32 := Scalar.addi v1021 v1808
  let c1_i32_1197 : BitVec 32 := 1#32
  let arg13 : BitVec 32 := Scf.iv v1809 c1_i32_1197 k3_t88
  let v1840 : Index := Scalar.indexCast arg13
  let c112 : Index := 112#32
  ![v1840.toNat, 112]
@[reducible] def k3_t89_loop (i : grid3.Coords) (v398 : BitVec 32) (v403 : BitVec 32) : Scf.Loop 32 :=
  let c256_i32_593 : BitVec 32 := 256#32
  let c0_i32_592 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let c256_i32_596 : BitVec 32 := 256#32
  let c0_i32_595 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c256_i32_594 : BitVec 32 := 256#32
  let v1031 : BitVec 32 := Scalar.subi v406 c256_i32_594
  let v1032 : BitVec 32 := Scalar.maxsi c0_i32_595 v1031
  let v1033 : BitVec 32 := Scalar.minsi c256_i32_596 v1032
  let v1805 : BitVec 32 := Scalar.subi v1033 v1030
  let c1_i32_1195 : BitVec 32 := 1#32
  let v1807 : BitVec 32 := Scalar.divsi v1805 c1_i32_1195
  let v1808 : BitVec 32 := Scalar.muli v1807 c1_i32_1195
  let v1809 : BitVec 32 := Scalar.addi v1030 v1808
  let c1_i32_1196 : BitVec 32 := 1#32
  ⟨v1030, v1809, c1_i32_1196⟩
def k3_cond45 (i : grid3.Coords) (v398 : BitVec 32) (v403 : BitVec 32) : BitVec 1 :=
  let c256_i32_596 : BitVec 32 := 256#32
  let c0_i32_595 : BitVec 32 := 0#32
  let c1024_i32_173 : BitVec 32 := 1024#32
  let c0_i32_172 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v404 : BitVec 32 := Scalar.subi v403 v3
  let v405 : BitVec 32 := Scalar.maxsi c0_i32_172 v404
  let v406 : BitVec 32 := Scalar.minsi c1024_i32_173 v405
  let c256_i32_594 : BitVec 32 := 256#32
  let v1031 : BitVec 32 := Scalar.subi v406 c256_i32_594
  let v1032 : BitVec 32 := Scalar.maxsi c0_i32_595 v1031
  let v1033 : BitVec 32 := Scalar.minsi c256_i32_596 v1032
  let c256_i32_593 : BitVec 32 := 256#32
  let c0_i32_592 : BitVec 32 := 0#32
  let c1024_i32_171 : BitVec 32 := 1024#32
  let c0_i32_170 : BitVec 32 := 0#32
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let v1034 : BitVec 1 := Scalar.cmpi .sgt v1033 v1030
  let v1035 : BitVec 32 := Scalar.extui v1034
  let c0_i32_597 : BitVec 32 := 0#32
  let v1036 : BitVec 1 := Scalar.cmpi .ne v1035 c0_i32_597
  v1036

def k3_off355 (i : grid3.Coords) (v398 : BitVec 32) (v403 : BitVec 32) (k3_t89 : Fin (k3_t89_loop i v398 v403).trips) : Fin 2 → Nat :=
  let c256_i32_593 : BitVec 32 := 256#32
  let c0_i32_592 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let c1_i32_1196 : BitVec 32 := 1#32
  let arg13 : BitVec 32 := Scf.iv v1030 c1_i32_1196 k3_t89
  let v1828 : Index := Scalar.indexCast arg13
  let c0_1206 : Index := 0#32
  ![v1828.toNat, 0]
def k3_off356 (i : grid3.Coords) (v398 : BitVec 32) (v403 : BitVec 32) (k3_t89 : Fin (k3_t89_loop i v398 v403).trips) : Fin 2 → Nat :=
  let c256_i32_593 : BitVec 32 := 256#32
  let c0_i32_592 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let c1_i32_1196 : BitVec 32 := 1#32
  let arg13 : BitVec 32 := Scf.iv v1030 c1_i32_1196 k3_t89
  let v1832 : Index := Scalar.indexCast arg13
  let c16_1207 : Index := 16#32
  ![v1832.toNat, 16]
def k3_off357 (i : grid3.Coords) (v398 : BitVec 32) (v403 : BitVec 32) (k3_t89 : Fin (k3_t89_loop i v398 v403).trips) : Fin 2 → Nat :=
  let c256_i32_593 : BitVec 32 := 256#32
  let c0_i32_592 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let c1_i32_1196 : BitVec 32 := 1#32
  let arg13 : BitVec 32 := Scf.iv v1030 c1_i32_1196 k3_t89
  let v1836 : Index := Scalar.indexCast arg13
  let c32_1208 : Index := 32#32
  ![v1836.toNat, 32]
def k3_off358 (i : grid3.Coords) (v398 : BitVec 32) (v403 : BitVec 32) (k3_t89 : Fin (k3_t89_loop i v398 v403).trips) : Fin 2 → Nat :=
  let c256_i32_593 : BitVec 32 := 256#32
  let c0_i32_592 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let c1_i32_1196 : BitVec 32 := 1#32
  let arg13 : BitVec 32 := Scf.iv v1030 c1_i32_1196 k3_t89
  let v1840 : Index := Scalar.indexCast arg13
  let c48_1209 : Index := 48#32
  ![v1840.toNat, 48]
@[reducible] def k3_t90_loop (i : grid3.Coords) (v398 : BitVec 32) (v403 : BitVec 32) : Scf.Loop 32 :=
  let c256_i32_593 : BitVec 32 := 256#32
  let c0_i32_592 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let c256_i32_596 : BitVec 32 := 256#32
  let c0_i32_595 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c256_i32_594 : BitVec 32 := 256#32
  let v1031 : BitVec 32 := Scalar.subi v406 c256_i32_594
  let v1032 : BitVec 32 := Scalar.maxsi c0_i32_595 v1031
  let v1033 : BitVec 32 := Scalar.minsi c256_i32_596 v1032
  let v1805 : BitVec 32 := Scalar.subi v1033 v1030
  let c1_i32_1195 : BitVec 32 := 1#32
  let v1807 : BitVec 32 := Scalar.divsi v1805 c1_i32_1195
  let v1808 : BitVec 32 := Scalar.muli v1807 c1_i32_1195
  let v1809 : BitVec 32 := Scalar.addi v1030 v1808
  let v1806 : BitVec 32 := Scalar.addi v1030 v1805
  let c1_i32_1197 : BitVec 32 := 1#32
  ⟨v1809, v1806, c1_i32_1197⟩
def k3_off359 (i : grid3.Coords) (v398 : BitVec 32) (v403 : BitVec 32) (k3_t90 : Fin (k3_t90_loop i v398 v403).trips) : Fin 2 → Nat :=
  let c256_i32_593 : BitVec 32 := 256#32
  let c0_i32_592 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let c256_i32_596 : BitVec 32 := 256#32
  let c0_i32_595 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c256_i32_594 : BitVec 32 := 256#32
  let v1031 : BitVec 32 := Scalar.subi v406 c256_i32_594
  let v1032 : BitVec 32 := Scalar.maxsi c0_i32_595 v1031
  let v1033 : BitVec 32 := Scalar.minsi c256_i32_596 v1032
  let v1805 : BitVec 32 := Scalar.subi v1033 v1030
  let c1_i32_1195 : BitVec 32 := 1#32
  let v1807 : BitVec 32 := Scalar.divsi v1805 c1_i32_1195
  let v1808 : BitVec 32 := Scalar.muli v1807 c1_i32_1195
  let v1809 : BitVec 32 := Scalar.addi v1030 v1808
  let c1_i32_1197 : BitVec 32 := 1#32
  let arg13 : BitVec 32 := Scf.iv v1809 c1_i32_1197 k3_t90
  let v1828 : Index := Scalar.indexCast arg13
  let c0_1206 : Index := 0#32
  ![v1828.toNat, 0]
def k3_off360 (i : grid3.Coords) (v398 : BitVec 32) (v403 : BitVec 32) (k3_t90 : Fin (k3_t90_loop i v398 v403).trips) : Fin 2 → Nat :=
  let c256_i32_593 : BitVec 32 := 256#32
  let c0_i32_592 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let c256_i32_596 : BitVec 32 := 256#32
  let c0_i32_595 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c256_i32_594 : BitVec 32 := 256#32
  let v1031 : BitVec 32 := Scalar.subi v406 c256_i32_594
  let v1032 : BitVec 32 := Scalar.maxsi c0_i32_595 v1031
  let v1033 : BitVec 32 := Scalar.minsi c256_i32_596 v1032
  let v1805 : BitVec 32 := Scalar.subi v1033 v1030
  let c1_i32_1195 : BitVec 32 := 1#32
  let v1807 : BitVec 32 := Scalar.divsi v1805 c1_i32_1195
  let v1808 : BitVec 32 := Scalar.muli v1807 c1_i32_1195
  let v1809 : BitVec 32 := Scalar.addi v1030 v1808
  let c1_i32_1197 : BitVec 32 := 1#32
  let arg13 : BitVec 32 := Scf.iv v1809 c1_i32_1197 k3_t90
  let v1832 : Index := Scalar.indexCast arg13
  let c16_1207 : Index := 16#32
  ![v1832.toNat, 16]
def k3_off361 (i : grid3.Coords) (v398 : BitVec 32) (v403 : BitVec 32) (k3_t90 : Fin (k3_t90_loop i v398 v403).trips) : Fin 2 → Nat :=
  let c256_i32_593 : BitVec 32 := 256#32
  let c0_i32_592 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let c256_i32_596 : BitVec 32 := 256#32
  let c0_i32_595 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c256_i32_594 : BitVec 32 := 256#32
  let v1031 : BitVec 32 := Scalar.subi v406 c256_i32_594
  let v1032 : BitVec 32 := Scalar.maxsi c0_i32_595 v1031
  let v1033 : BitVec 32 := Scalar.minsi c256_i32_596 v1032
  let v1805 : BitVec 32 := Scalar.subi v1033 v1030
  let c1_i32_1195 : BitVec 32 := 1#32
  let v1807 : BitVec 32 := Scalar.divsi v1805 c1_i32_1195
  let v1808 : BitVec 32 := Scalar.muli v1807 c1_i32_1195
  let v1809 : BitVec 32 := Scalar.addi v1030 v1808
  let c1_i32_1197 : BitVec 32 := 1#32
  let arg13 : BitVec 32 := Scf.iv v1809 c1_i32_1197 k3_t90
  let v1836 : Index := Scalar.indexCast arg13
  let c32_1208 : Index := 32#32
  ![v1836.toNat, 32]
def k3_off362 (i : grid3.Coords) (v398 : BitVec 32) (v403 : BitVec 32) (k3_t90 : Fin (k3_t90_loop i v398 v403).trips) : Fin 2 → Nat :=
  let c256_i32_593 : BitVec 32 := 256#32
  let c0_i32_592 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c256_i32_591 : BitVec 32 := 256#32
  let v1028 : BitVec 32 := Scalar.subi v401 c256_i32_591
  let v1029 : BitVec 32 := Scalar.maxsi c0_i32_592 v1028
  let v1030 : BitVec 32 := Scalar.minsi c256_i32_593 v1029
  let c256_i32_596 : BitVec 32 := 256#32
  let c0_i32_595 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c256_i32_594 : BitVec 32 := 256#32
  let v1031 : BitVec 32 := Scalar.subi v406 c256_i32_594
  let v1032 : BitVec 32 := Scalar.maxsi c0_i32_595 v1031
  let v1033 : BitVec 32 := Scalar.minsi c256_i32_596 v1032
  let v1805 : BitVec 32 := Scalar.subi v1033 v1030
  let c1_i32_1195 : BitVec 32 := 1#32
  let v1807 : BitVec 32 := Scalar.divsi v1805 c1_i32_1195
  let v1808 : BitVec 32 := Scalar.muli v1807 c1_i32_1195
  let v1809 : BitVec 32 := Scalar.addi v1030 v1808
  let c1_i32_1197 : BitVec 32 := 1#32
  let arg13 : BitVec 32 := Scf.iv v1809 c1_i32_1197 k3_t90
  let v1840 : Index := Scalar.indexCast arg13
  let c48_1209 : Index := 48#32
  ![v1840.toNat, 48]
@[reducible] def k3_t91_loop (i : grid3.Coords) (v408 : BitVec 32) (v414 : BitVec 32) : Scf.Loop 32 :=
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let c256_i32_603 : BitVec 32 := 256#32
  let c0_i32_602 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c256_i32_601 : BitVec 32 := 256#32
  let v1040 : BitVec 32 := Scalar.subi v418 c256_i32_601
  let v1041 : BitVec 32 := Scalar.maxsi c0_i32_602 v1040
  let v1042 : BitVec 32 := Scalar.minsi c256_i32_603 v1041
  let v1805 : BitVec 32 := Scalar.subi v1042 v1039
  let c1_i32_1195 : BitVec 32 := 1#32
  let v1807 : BitVec 32 := Scalar.divsi v1805 c1_i32_1195
  let v1808 : BitVec 32 := Scalar.muli v1807 c1_i32_1195
  let v1809 : BitVec 32 := Scalar.addi v1039 v1808
  let c1_i32_1196 : BitVec 32 := 1#32
  ⟨v1039, v1809, c1_i32_1196⟩
def k3_cond46 (i : grid3.Coords) (v408 : BitVec 32) (v414 : BitVec 32) : BitVec 1 :=
  let c256_i32_603 : BitVec 32 := 256#32
  let c0_i32_602 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v416 : BitVec 32 := Scalar.subi v415 v3
  let v417 : BitVec 32 := Scalar.maxsi c0_i32_178 v416
  let v418 : BitVec 32 := Scalar.minsi c1024_i32_179 v417
  let c256_i32_601 : BitVec 32 := 256#32
  let v1040 : BitVec 32 := Scalar.subi v418 c256_i32_601
  let v1041 : BitVec 32 := Scalar.maxsi c0_i32_602 v1040
  let v1042 : BitVec 32 := Scalar.minsi c256_i32_603 v1041
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let v1043 : BitVec 1 := Scalar.cmpi .sgt v1042 v1039
  let v1044 : BitVec 32 := Scalar.extui v1043
  let c0_i32_604 : BitVec 32 := 0#32
  let v1045 : BitVec 1 := Scalar.cmpi .ne v1044 c0_i32_604
  v1045

def k3_off363 (i : grid3.Coords) (v408 : BitVec 32) (v414 : BitVec 32) (k3_t91 : Fin (k3_t91_loop i v408 v414).trips) : Fin 2 → Nat :=
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let c1_i32_1196 : BitVec 32 := 1#32
  let arg13 : BitVec 32 := Scf.iv v1039 c1_i32_1196 k3_t91
  let v1828 : Index := Scalar.indexCast arg13
  let c64 : Index := 64#32
  ![v1828.toNat, 64]
def k3_off364 (i : grid3.Coords) (v408 : BitVec 32) (v414 : BitVec 32) (k3_t91 : Fin (k3_t91_loop i v408 v414).trips) : Fin 2 → Nat :=
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let c1_i32_1196 : BitVec 32 := 1#32
  let arg13 : BitVec 32 := Scf.iv v1039 c1_i32_1196 k3_t91
  let v1832 : Index := Scalar.indexCast arg13
  let c80 : Index := 80#32
  ![v1832.toNat, 80]
def k3_off365 (i : grid3.Coords) (v408 : BitVec 32) (v414 : BitVec 32) (k3_t91 : Fin (k3_t91_loop i v408 v414).trips) : Fin 2 → Nat :=
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let c1_i32_1196 : BitVec 32 := 1#32
  let arg13 : BitVec 32 := Scf.iv v1039 c1_i32_1196 k3_t91
  let v1836 : Index := Scalar.indexCast arg13
  let c96 : Index := 96#32
  ![v1836.toNat, 96]
def k3_off366 (i : grid3.Coords) (v408 : BitVec 32) (v414 : BitVec 32) (k3_t91 : Fin (k3_t91_loop i v408 v414).trips) : Fin 2 → Nat :=
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let c1_i32_1196 : BitVec 32 := 1#32
  let arg13 : BitVec 32 := Scf.iv v1039 c1_i32_1196 k3_t91
  let v1840 : Index := Scalar.indexCast arg13
  let c112 : Index := 112#32
  ![v1840.toNat, 112]
@[reducible] def k3_t92_loop (i : grid3.Coords) (v408 : BitVec 32) (v414 : BitVec 32) : Scf.Loop 32 :=
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let c256_i32_603 : BitVec 32 := 256#32
  let c0_i32_602 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c256_i32_601 : BitVec 32 := 256#32
  let v1040 : BitVec 32 := Scalar.subi v418 c256_i32_601
  let v1041 : BitVec 32 := Scalar.maxsi c0_i32_602 v1040
  let v1042 : BitVec 32 := Scalar.minsi c256_i32_603 v1041
  let v1805 : BitVec 32 := Scalar.subi v1042 v1039
  let c1_i32_1195 : BitVec 32 := 1#32
  let v1807 : BitVec 32 := Scalar.divsi v1805 c1_i32_1195
  let v1808 : BitVec 32 := Scalar.muli v1807 c1_i32_1195
  let v1809 : BitVec 32 := Scalar.addi v1039 v1808
  let v1806 : BitVec 32 := Scalar.addi v1039 v1805
  let c1_i32_1197 : BitVec 32 := 1#32
  ⟨v1809, v1806, c1_i32_1197⟩
def k3_off367 (i : grid3.Coords) (v408 : BitVec 32) (v414 : BitVec 32) (k3_t92 : Fin (k3_t92_loop i v408 v414).trips) : Fin 2 → Nat :=
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let c256_i32_603 : BitVec 32 := 256#32
  let c0_i32_602 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c256_i32_601 : BitVec 32 := 256#32
  let v1040 : BitVec 32 := Scalar.subi v418 c256_i32_601
  let v1041 : BitVec 32 := Scalar.maxsi c0_i32_602 v1040
  let v1042 : BitVec 32 := Scalar.minsi c256_i32_603 v1041
  let v1805 : BitVec 32 := Scalar.subi v1042 v1039
  let c1_i32_1195 : BitVec 32 := 1#32
  let v1807 : BitVec 32 := Scalar.divsi v1805 c1_i32_1195
  let v1808 : BitVec 32 := Scalar.muli v1807 c1_i32_1195
  let v1809 : BitVec 32 := Scalar.addi v1039 v1808
  let c1_i32_1197 : BitVec 32 := 1#32
  let arg13 : BitVec 32 := Scf.iv v1809 c1_i32_1197 k3_t92
  let v1828 : Index := Scalar.indexCast arg13
  let c64 : Index := 64#32
  ![v1828.toNat, 64]
def k3_off368 (i : grid3.Coords) (v408 : BitVec 32) (v414 : BitVec 32) (k3_t92 : Fin (k3_t92_loop i v408 v414).trips) : Fin 2 → Nat :=
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let c256_i32_603 : BitVec 32 := 256#32
  let c0_i32_602 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c256_i32_601 : BitVec 32 := 256#32
  let v1040 : BitVec 32 := Scalar.subi v418 c256_i32_601
  let v1041 : BitVec 32 := Scalar.maxsi c0_i32_602 v1040
  let v1042 : BitVec 32 := Scalar.minsi c256_i32_603 v1041
  let v1805 : BitVec 32 := Scalar.subi v1042 v1039
  let c1_i32_1195 : BitVec 32 := 1#32
  let v1807 : BitVec 32 := Scalar.divsi v1805 c1_i32_1195
  let v1808 : BitVec 32 := Scalar.muli v1807 c1_i32_1195
  let v1809 : BitVec 32 := Scalar.addi v1039 v1808
  let c1_i32_1197 : BitVec 32 := 1#32
  let arg13 : BitVec 32 := Scf.iv v1809 c1_i32_1197 k3_t92
  let v1832 : Index := Scalar.indexCast arg13
  let c80 : Index := 80#32
  ![v1832.toNat, 80]
def k3_off369 (i : grid3.Coords) (v408 : BitVec 32) (v414 : BitVec 32) (k3_t92 : Fin (k3_t92_loop i v408 v414).trips) : Fin 2 → Nat :=
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let c256_i32_603 : BitVec 32 := 256#32
  let c0_i32_602 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c256_i32_601 : BitVec 32 := 256#32
  let v1040 : BitVec 32 := Scalar.subi v418 c256_i32_601
  let v1041 : BitVec 32 := Scalar.maxsi c0_i32_602 v1040
  let v1042 : BitVec 32 := Scalar.minsi c256_i32_603 v1041
  let v1805 : BitVec 32 := Scalar.subi v1042 v1039
  let c1_i32_1195 : BitVec 32 := 1#32
  let v1807 : BitVec 32 := Scalar.divsi v1805 c1_i32_1195
  let v1808 : BitVec 32 := Scalar.muli v1807 c1_i32_1195
  let v1809 : BitVec 32 := Scalar.addi v1039 v1808
  let c1_i32_1197 : BitVec 32 := 1#32
  let arg13 : BitVec 32 := Scf.iv v1809 c1_i32_1197 k3_t92
  let v1836 : Index := Scalar.indexCast arg13
  let c96 : Index := 96#32
  ![v1836.toNat, 96]
def k3_off370 (i : grid3.Coords) (v408 : BitVec 32) (v414 : BitVec 32) (k3_t92 : Fin (k3_t92_loop i v408 v414).trips) : Fin 2 → Nat :=
  let c256_i32_600 : BitVec 32 := 256#32
  let c0_i32_599 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c256_i32_598 : BitVec 32 := 256#32
  let v1037 : BitVec 32 := Scalar.subi v412 c256_i32_598
  let v1038 : BitVec 32 := Scalar.maxsi c0_i32_599 v1037
  let v1039 : BitVec 32 := Scalar.minsi c256_i32_600 v1038
  let c256_i32_603 : BitVec 32 := 256#32
  let c0_i32_602 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c256_i32_601 : BitVec 32 := 256#32
  let v1040 : BitVec 32 := Scalar.subi v418 c256_i32_601
  let v1041 : BitVec 32 := Scalar.maxsi c0_i32_602 v1040
  let v1042 : BitVec 32 := Scalar.minsi c256_i32_603 v1041
  let v1805 : BitVec 32 := Scalar.subi v1042 v1039
  let c1_i32_1195 : BitVec 32 := 1#32
  let v1807 : BitVec 32 := Scalar.divsi v1805 c1_i32_1195
  let v1808 : BitVec 32 := Scalar.muli v1807 c1_i32_1195
  let v1809 : BitVec 32 := Scalar.addi v1039 v1808
  let c1_i32_1197 : BitVec 32 := 1#32
  let arg13 : BitVec 32 := Scf.iv v1809 c1_i32_1197 k3_t92
  let v1840 : Index := Scalar.indexCast arg13
  let c112 : Index := 112#32
  ![v1840.toNat, 112]
@[reducible] def k3_t93_loop (i : grid3.Coords) (v420 : BitVec 32) (v425 : BitVec 32) : Scf.Loop 32 :=
  let c256_i32_607 : BitVec 32 := 256#32
  let c0_i32_606 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let c256_i32_610 : BitVec 32 := 256#32
  let c0_i32_609 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c256_i32_608 : BitVec 32 := 256#32
  let v1049 : BitVec 32 := Scalar.subi v428 c256_i32_608
  let v1050 : BitVec 32 := Scalar.maxsi c0_i32_609 v1049
  let v1051 : BitVec 32 := Scalar.minsi c256_i32_610 v1050
  let v1805 : BitVec 32 := Scalar.subi v1051 v1048
  let c1_i32_1195 : BitVec 32 := 1#32
  let v1807 : BitVec 32 := Scalar.divsi v1805 c1_i32_1195
  let v1808 : BitVec 32 := Scalar.muli v1807 c1_i32_1195
  let v1809 : BitVec 32 := Scalar.addi v1048 v1808
  let c1_i32_1196 : BitVec 32 := 1#32
  ⟨v1048, v1809, c1_i32_1196⟩
def k3_cond47 (i : grid3.Coords) (v420 : BitVec 32) (v425 : BitVec 32) : BitVec 1 :=
  let c256_i32_610 : BitVec 32 := 256#32
  let c0_i32_609 : BitVec 32 := 0#32
  let c1024_i32_183 : BitVec 32 := 1024#32
  let c0_i32_182 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v426 : BitVec 32 := Scalar.subi v425 v3
  let v427 : BitVec 32 := Scalar.maxsi c0_i32_182 v426
  let v428 : BitVec 32 := Scalar.minsi c1024_i32_183 v427
  let c256_i32_608 : BitVec 32 := 256#32
  let v1049 : BitVec 32 := Scalar.subi v428 c256_i32_608
  let v1050 : BitVec 32 := Scalar.maxsi c0_i32_609 v1049
  let v1051 : BitVec 32 := Scalar.minsi c256_i32_610 v1050
  let c256_i32_607 : BitVec 32 := 256#32
  let c0_i32_606 : BitVec 32 := 0#32
  let c1024_i32_181 : BitVec 32 := 1024#32
  let c0_i32_180 : BitVec 32 := 0#32
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let v1052 : BitVec 1 := Scalar.cmpi .sgt v1051 v1048
  let v1053 : BitVec 32 := Scalar.extui v1052
  let c0_i32_611 : BitVec 32 := 0#32
  let v1054 : BitVec 1 := Scalar.cmpi .ne v1053 c0_i32_611
  v1054

def k3_off371 (i : grid3.Coords) (v420 : BitVec 32) (v425 : BitVec 32) (k3_t93 : Fin (k3_t93_loop i v420 v425).trips) : Fin 2 → Nat :=
  let c256_i32_607 : BitVec 32 := 256#32
  let c0_i32_606 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let c1_i32_1196 : BitVec 32 := 1#32
  let arg13 : BitVec 32 := Scf.iv v1048 c1_i32_1196 k3_t93
  let v1828 : Index := Scalar.indexCast arg13
  let c0_1206 : Index := 0#32
  ![v1828.toNat, 0]
def k3_off372 (i : grid3.Coords) (v420 : BitVec 32) (v425 : BitVec 32) (k3_t93 : Fin (k3_t93_loop i v420 v425).trips) : Fin 2 → Nat :=
  let c256_i32_607 : BitVec 32 := 256#32
  let c0_i32_606 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let c1_i32_1196 : BitVec 32 := 1#32
  let arg13 : BitVec 32 := Scf.iv v1048 c1_i32_1196 k3_t93
  let v1832 : Index := Scalar.indexCast arg13
  let c16_1207 : Index := 16#32
  ![v1832.toNat, 16]
def k3_off373 (i : grid3.Coords) (v420 : BitVec 32) (v425 : BitVec 32) (k3_t93 : Fin (k3_t93_loop i v420 v425).trips) : Fin 2 → Nat :=
  let c256_i32_607 : BitVec 32 := 256#32
  let c0_i32_606 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let c1_i32_1196 : BitVec 32 := 1#32
  let arg13 : BitVec 32 := Scf.iv v1048 c1_i32_1196 k3_t93
  let v1836 : Index := Scalar.indexCast arg13
  let c32_1208 : Index := 32#32
  ![v1836.toNat, 32]
def k3_off374 (i : grid3.Coords) (v420 : BitVec 32) (v425 : BitVec 32) (k3_t93 : Fin (k3_t93_loop i v420 v425).trips) : Fin 2 → Nat :=
  let c256_i32_607 : BitVec 32 := 256#32
  let c0_i32_606 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let c1_i32_1196 : BitVec 32 := 1#32
  let arg13 : BitVec 32 := Scf.iv v1048 c1_i32_1196 k3_t93
  let v1840 : Index := Scalar.indexCast arg13
  let c48_1209 : Index := 48#32
  ![v1840.toNat, 48]
@[reducible] def k3_t94_loop (i : grid3.Coords) (v420 : BitVec 32) (v425 : BitVec 32) : Scf.Loop 32 :=
  let c256_i32_607 : BitVec 32 := 256#32
  let c0_i32_606 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let c256_i32_610 : BitVec 32 := 256#32
  let c0_i32_609 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c256_i32_608 : BitVec 32 := 256#32
  let v1049 : BitVec 32 := Scalar.subi v428 c256_i32_608
  let v1050 : BitVec 32 := Scalar.maxsi c0_i32_609 v1049
  let v1051 : BitVec 32 := Scalar.minsi c256_i32_610 v1050
  let v1805 : BitVec 32 := Scalar.subi v1051 v1048
  let c1_i32_1195 : BitVec 32 := 1#32
  let v1807 : BitVec 32 := Scalar.divsi v1805 c1_i32_1195
  let v1808 : BitVec 32 := Scalar.muli v1807 c1_i32_1195
  let v1809 : BitVec 32 := Scalar.addi v1048 v1808
  let v1806 : BitVec 32 := Scalar.addi v1048 v1805
  let c1_i32_1197 : BitVec 32 := 1#32
  ⟨v1809, v1806, c1_i32_1197⟩
def k3_off375 (i : grid3.Coords) (v420 : BitVec 32) (v425 : BitVec 32) (k3_t94 : Fin (k3_t94_loop i v420 v425).trips) : Fin 2 → Nat :=
  let c256_i32_607 : BitVec 32 := 256#32
  let c0_i32_606 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let c256_i32_610 : BitVec 32 := 256#32
  let c0_i32_609 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c256_i32_608 : BitVec 32 := 256#32
  let v1049 : BitVec 32 := Scalar.subi v428 c256_i32_608
  let v1050 : BitVec 32 := Scalar.maxsi c0_i32_609 v1049
  let v1051 : BitVec 32 := Scalar.minsi c256_i32_610 v1050
  let v1805 : BitVec 32 := Scalar.subi v1051 v1048
  let c1_i32_1195 : BitVec 32 := 1#32
  let v1807 : BitVec 32 := Scalar.divsi v1805 c1_i32_1195
  let v1808 : BitVec 32 := Scalar.muli v1807 c1_i32_1195
  let v1809 : BitVec 32 := Scalar.addi v1048 v1808
  let c1_i32_1197 : BitVec 32 := 1#32
  let arg13 : BitVec 32 := Scf.iv v1809 c1_i32_1197 k3_t94
  let v1828 : Index := Scalar.indexCast arg13
  let c0_1206 : Index := 0#32
  ![v1828.toNat, 0]
def k3_off376 (i : grid3.Coords) (v420 : BitVec 32) (v425 : BitVec 32) (k3_t94 : Fin (k3_t94_loop i v420 v425).trips) : Fin 2 → Nat :=
  let c256_i32_607 : BitVec 32 := 256#32
  let c0_i32_606 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let c256_i32_610 : BitVec 32 := 256#32
  let c0_i32_609 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c256_i32_608 : BitVec 32 := 256#32
  let v1049 : BitVec 32 := Scalar.subi v428 c256_i32_608
  let v1050 : BitVec 32 := Scalar.maxsi c0_i32_609 v1049
  let v1051 : BitVec 32 := Scalar.minsi c256_i32_610 v1050
  let v1805 : BitVec 32 := Scalar.subi v1051 v1048
  let c1_i32_1195 : BitVec 32 := 1#32
  let v1807 : BitVec 32 := Scalar.divsi v1805 c1_i32_1195
  let v1808 : BitVec 32 := Scalar.muli v1807 c1_i32_1195
  let v1809 : BitVec 32 := Scalar.addi v1048 v1808
  let c1_i32_1197 : BitVec 32 := 1#32
  let arg13 : BitVec 32 := Scf.iv v1809 c1_i32_1197 k3_t94
  let v1832 : Index := Scalar.indexCast arg13
  let c16_1207 : Index := 16#32
  ![v1832.toNat, 16]
def k3_off377 (i : grid3.Coords) (v420 : BitVec 32) (v425 : BitVec 32) (k3_t94 : Fin (k3_t94_loop i v420 v425).trips) : Fin 2 → Nat :=
  let c256_i32_607 : BitVec 32 := 256#32
  let c0_i32_606 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let c256_i32_610 : BitVec 32 := 256#32
  let c0_i32_609 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c256_i32_608 : BitVec 32 := 256#32
  let v1049 : BitVec 32 := Scalar.subi v428 c256_i32_608
  let v1050 : BitVec 32 := Scalar.maxsi c0_i32_609 v1049
  let v1051 : BitVec 32 := Scalar.minsi c256_i32_610 v1050
  let v1805 : BitVec 32 := Scalar.subi v1051 v1048
  let c1_i32_1195 : BitVec 32 := 1#32
  let v1807 : BitVec 32 := Scalar.divsi v1805 c1_i32_1195
  let v1808 : BitVec 32 := Scalar.muli v1807 c1_i32_1195
  let v1809 : BitVec 32 := Scalar.addi v1048 v1808
  let c1_i32_1197 : BitVec 32 := 1#32
  let arg13 : BitVec 32 := Scf.iv v1809 c1_i32_1197 k3_t94
  let v1836 : Index := Scalar.indexCast arg13
  let c32_1208 : Index := 32#32
  ![v1836.toNat, 32]
def k3_off378 (i : grid3.Coords) (v420 : BitVec 32) (v425 : BitVec 32) (k3_t94 : Fin (k3_t94_loop i v420 v425).trips) : Fin 2 → Nat :=
  let c256_i32_607 : BitVec 32 := 256#32
  let c0_i32_606 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c256_i32_605 : BitVec 32 := 256#32
  let v1046 : BitVec 32 := Scalar.subi v423 c256_i32_605
  let v1047 : BitVec 32 := Scalar.maxsi c0_i32_606 v1046
  let v1048 : BitVec 32 := Scalar.minsi c256_i32_607 v1047
  let c256_i32_610 : BitVec 32 := 256#32
  let c0_i32_609 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c256_i32_608 : BitVec 32 := 256#32
  let v1049 : BitVec 32 := Scalar.subi v428 c256_i32_608
  let v1050 : BitVec 32 := Scalar.maxsi c0_i32_609 v1049
  let v1051 : BitVec 32 := Scalar.minsi c256_i32_610 v1050
  let v1805 : BitVec 32 := Scalar.subi v1051 v1048
  let c1_i32_1195 : BitVec 32 := 1#32
  let v1807 : BitVec 32 := Scalar.divsi v1805 c1_i32_1195
  let v1808 : BitVec 32 := Scalar.muli v1807 c1_i32_1195
  let v1809 : BitVec 32 := Scalar.addi v1048 v1808
  let c1_i32_1197 : BitVec 32 := 1#32
  let arg13 : BitVec 32 := Scf.iv v1809 c1_i32_1197 k3_t94
  let v1840 : Index := Scalar.indexCast arg13
  let c48_1209 : Index := 48#32
  ![v1840.toNat, 48]
@[reducible] def k3_t95_loop (i : grid3.Coords) (v430 : BitVec 32) (v436 : BitVec 32) : Scf.Loop 32 :=
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let c256_i32_617 : BitVec 32 := 256#32
  let c0_i32_616 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c256_i32_615 : BitVec 32 := 256#32
  let v1058 : BitVec 32 := Scalar.subi v440 c256_i32_615
  let v1059 : BitVec 32 := Scalar.maxsi c0_i32_616 v1058
  let v1060 : BitVec 32 := Scalar.minsi c256_i32_617 v1059
  let v1805 : BitVec 32 := Scalar.subi v1060 v1057
  let c1_i32_1195 : BitVec 32 := 1#32
  let v1807 : BitVec 32 := Scalar.divsi v1805 c1_i32_1195
  let v1808 : BitVec 32 := Scalar.muli v1807 c1_i32_1195
  let v1809 : BitVec 32 := Scalar.addi v1057 v1808
  let c1_i32_1196 : BitVec 32 := 1#32
  ⟨v1057, v1809, c1_i32_1196⟩
def k3_cond48 (i : grid3.Coords) (v430 : BitVec 32) (v436 : BitVec 32) : BitVec 1 :=
  let c256_i32_617 : BitVec 32 := 256#32
  let c0_i32_616 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v438 : BitVec 32 := Scalar.subi v437 v3
  let v439 : BitVec 32 := Scalar.maxsi c0_i32_188 v438
  let v440 : BitVec 32 := Scalar.minsi c1024_i32_189 v439
  let c256_i32_615 : BitVec 32 := 256#32
  let v1058 : BitVec 32 := Scalar.subi v440 c256_i32_615
  let v1059 : BitVec 32 := Scalar.maxsi c0_i32_616 v1058
  let v1060 : BitVec 32 := Scalar.minsi c256_i32_617 v1059
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let v1061 : BitVec 1 := Scalar.cmpi .sgt v1060 v1057
  let v1062 : BitVec 32 := Scalar.extui v1061
  let c0_i32_618 : BitVec 32 := 0#32
  let v1063 : BitVec 1 := Scalar.cmpi .ne v1062 c0_i32_618
  v1063

def k3_off379 (i : grid3.Coords) (v430 : BitVec 32) (v436 : BitVec 32) (k3_t95 : Fin (k3_t95_loop i v430 v436).trips) : Fin 2 → Nat :=
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let c1_i32_1196 : BitVec 32 := 1#32
  let arg13 : BitVec 32 := Scf.iv v1057 c1_i32_1196 k3_t95
  let v1828 : Index := Scalar.indexCast arg13
  let c64 : Index := 64#32
  ![v1828.toNat, 64]
def k3_off380 (i : grid3.Coords) (v430 : BitVec 32) (v436 : BitVec 32) (k3_t95 : Fin (k3_t95_loop i v430 v436).trips) : Fin 2 → Nat :=
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let c1_i32_1196 : BitVec 32 := 1#32
  let arg13 : BitVec 32 := Scf.iv v1057 c1_i32_1196 k3_t95
  let v1832 : Index := Scalar.indexCast arg13
  let c80 : Index := 80#32
  ![v1832.toNat, 80]
def k3_off381 (i : grid3.Coords) (v430 : BitVec 32) (v436 : BitVec 32) (k3_t95 : Fin (k3_t95_loop i v430 v436).trips) : Fin 2 → Nat :=
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let c1_i32_1196 : BitVec 32 := 1#32
  let arg13 : BitVec 32 := Scf.iv v1057 c1_i32_1196 k3_t95
  let v1836 : Index := Scalar.indexCast arg13
  let c96 : Index := 96#32
  ![v1836.toNat, 96]
def k3_off382 (i : grid3.Coords) (v430 : BitVec 32) (v436 : BitVec 32) (k3_t95 : Fin (k3_t95_loop i v430 v436).trips) : Fin 2 → Nat :=
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let c1_i32_1196 : BitVec 32 := 1#32
  let arg13 : BitVec 32 := Scf.iv v1057 c1_i32_1196 k3_t95
  let v1840 : Index := Scalar.indexCast arg13
  let c112 : Index := 112#32
  ![v1840.toNat, 112]
@[reducible] def k3_t96_loop (i : grid3.Coords) (v430 : BitVec 32) (v436 : BitVec 32) : Scf.Loop 32 :=
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let c256_i32_617 : BitVec 32 := 256#32
  let c0_i32_616 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c256_i32_615 : BitVec 32 := 256#32
  let v1058 : BitVec 32 := Scalar.subi v440 c256_i32_615
  let v1059 : BitVec 32 := Scalar.maxsi c0_i32_616 v1058
  let v1060 : BitVec 32 := Scalar.minsi c256_i32_617 v1059
  let v1805 : BitVec 32 := Scalar.subi v1060 v1057
  let c1_i32_1195 : BitVec 32 := 1#32
  let v1807 : BitVec 32 := Scalar.divsi v1805 c1_i32_1195
  let v1808 : BitVec 32 := Scalar.muli v1807 c1_i32_1195
  let v1809 : BitVec 32 := Scalar.addi v1057 v1808
  let v1806 : BitVec 32 := Scalar.addi v1057 v1805
  let c1_i32_1197 : BitVec 32 := 1#32
  ⟨v1809, v1806, c1_i32_1197⟩
def k3_off383 (i : grid3.Coords) (v430 : BitVec 32) (v436 : BitVec 32) (k3_t96 : Fin (k3_t96_loop i v430 v436).trips) : Fin 2 → Nat :=
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let c256_i32_617 : BitVec 32 := 256#32
  let c0_i32_616 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c256_i32_615 : BitVec 32 := 256#32
  let v1058 : BitVec 32 := Scalar.subi v440 c256_i32_615
  let v1059 : BitVec 32 := Scalar.maxsi c0_i32_616 v1058
  let v1060 : BitVec 32 := Scalar.minsi c256_i32_617 v1059
  let v1805 : BitVec 32 := Scalar.subi v1060 v1057
  let c1_i32_1195 : BitVec 32 := 1#32
  let v1807 : BitVec 32 := Scalar.divsi v1805 c1_i32_1195
  let v1808 : BitVec 32 := Scalar.muli v1807 c1_i32_1195
  let v1809 : BitVec 32 := Scalar.addi v1057 v1808
  let c1_i32_1197 : BitVec 32 := 1#32
  let arg13 : BitVec 32 := Scf.iv v1809 c1_i32_1197 k3_t96
  let v1828 : Index := Scalar.indexCast arg13
  let c64 : Index := 64#32
  ![v1828.toNat, 64]
def k3_off384 (i : grid3.Coords) (v430 : BitVec 32) (v436 : BitVec 32) (k3_t96 : Fin (k3_t96_loop i v430 v436).trips) : Fin 2 → Nat :=
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let c256_i32_617 : BitVec 32 := 256#32
  let c0_i32_616 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c256_i32_615 : BitVec 32 := 256#32
  let v1058 : BitVec 32 := Scalar.subi v440 c256_i32_615
  let v1059 : BitVec 32 := Scalar.maxsi c0_i32_616 v1058
  let v1060 : BitVec 32 := Scalar.minsi c256_i32_617 v1059
  let v1805 : BitVec 32 := Scalar.subi v1060 v1057
  let c1_i32_1195 : BitVec 32 := 1#32
  let v1807 : BitVec 32 := Scalar.divsi v1805 c1_i32_1195
  let v1808 : BitVec 32 := Scalar.muli v1807 c1_i32_1195
  let v1809 : BitVec 32 := Scalar.addi v1057 v1808
  let c1_i32_1197 : BitVec 32 := 1#32
  let arg13 : BitVec 32 := Scf.iv v1809 c1_i32_1197 k3_t96
  let v1832 : Index := Scalar.indexCast arg13
  let c80 : Index := 80#32
  ![v1832.toNat, 80]
def k3_off385 (i : grid3.Coords) (v430 : BitVec 32) (v436 : BitVec 32) (k3_t96 : Fin (k3_t96_loop i v430 v436).trips) : Fin 2 → Nat :=
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let c256_i32_617 : BitVec 32 := 256#32
  let c0_i32_616 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c256_i32_615 : BitVec 32 := 256#32
  let v1058 : BitVec 32 := Scalar.subi v440 c256_i32_615
  let v1059 : BitVec 32 := Scalar.maxsi c0_i32_616 v1058
  let v1060 : BitVec 32 := Scalar.minsi c256_i32_617 v1059
  let v1805 : BitVec 32 := Scalar.subi v1060 v1057
  let c1_i32_1195 : BitVec 32 := 1#32
  let v1807 : BitVec 32 := Scalar.divsi v1805 c1_i32_1195
  let v1808 : BitVec 32 := Scalar.muli v1807 c1_i32_1195
  let v1809 : BitVec 32 := Scalar.addi v1057 v1808
  let c1_i32_1197 : BitVec 32 := 1#32
  let arg13 : BitVec 32 := Scf.iv v1809 c1_i32_1197 k3_t96
  let v1836 : Index := Scalar.indexCast arg13
  let c96 : Index := 96#32
  ![v1836.toNat, 96]
def k3_off386 (i : grid3.Coords) (v430 : BitVec 32) (v436 : BitVec 32) (k3_t96 : Fin (k3_t96_loop i v430 v436).trips) : Fin 2 → Nat :=
  let c256_i32_614 : BitVec 32 := 256#32
  let c0_i32_613 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c256_i32_612 : BitVec 32 := 256#32
  let v1055 : BitVec 32 := Scalar.subi v434 c256_i32_612
  let v1056 : BitVec 32 := Scalar.maxsi c0_i32_613 v1055
  let v1057 : BitVec 32 := Scalar.minsi c256_i32_614 v1056
  let c256_i32_617 : BitVec 32 := 256#32
  let c0_i32_616 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c256_i32_615 : BitVec 32 := 256#32
  let v1058 : BitVec 32 := Scalar.subi v440 c256_i32_615
  let v1059 : BitVec 32 := Scalar.maxsi c0_i32_616 v1058
  let v1060 : BitVec 32 := Scalar.minsi c256_i32_617 v1059
  let v1805 : BitVec 32 := Scalar.subi v1060 v1057
  let c1_i32_1195 : BitVec 32 := 1#32
  let v1807 : BitVec 32 := Scalar.divsi v1805 c1_i32_1195
  let v1808 : BitVec 32 := Scalar.muli v1807 c1_i32_1195
  let v1809 : BitVec 32 := Scalar.addi v1057 v1808
  let c1_i32_1197 : BitVec 32 := 1#32
  let arg13 : BitVec 32 := Scf.iv v1809 c1_i32_1197 k3_t96
  let v1840 : Index := Scalar.indexCast arg13
  let c112 : Index := 112#32
  ![v1840.toNat, 112]
@[reducible] def k3_t97_loop (i : grid3.Coords) (v442 : BitVec 32) (v447 : BitVec 32) : Scf.Loop 32 :=
  let c256_i32_621 : BitVec 32 := 256#32
  let c0_i32_620 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let c256_i32_624 : BitVec 32 := 256#32
  let c0_i32_623 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c256_i32_622 : BitVec 32 := 256#32
  let v1067 : BitVec 32 := Scalar.subi v450 c256_i32_622
  let v1068 : BitVec 32 := Scalar.maxsi c0_i32_623 v1067
  let v1069 : BitVec 32 := Scalar.minsi c256_i32_624 v1068
  let v1805 : BitVec 32 := Scalar.subi v1069 v1066
  let c1_i32_1195 : BitVec 32 := 1#32
  let v1807 : BitVec 32 := Scalar.divsi v1805 c1_i32_1195
  let v1808 : BitVec 32 := Scalar.muli v1807 c1_i32_1195
  let v1809 : BitVec 32 := Scalar.addi v1066 v1808
  let c1_i32_1196 : BitVec 32 := 1#32
  ⟨v1066, v1809, c1_i32_1196⟩
def k3_cond49 (i : grid3.Coords) (v442 : BitVec 32) (v447 : BitVec 32) : BitVec 1 :=
  let c256_i32_624 : BitVec 32 := 256#32
  let c0_i32_623 : BitVec 32 := 0#32
  let c1024_i32_193 : BitVec 32 := 1024#32
  let c0_i32_192 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v448 : BitVec 32 := Scalar.subi v447 v3
  let v449 : BitVec 32 := Scalar.maxsi c0_i32_192 v448
  let v450 : BitVec 32 := Scalar.minsi c1024_i32_193 v449
  let c256_i32_622 : BitVec 32 := 256#32
  let v1067 : BitVec 32 := Scalar.subi v450 c256_i32_622
  let v1068 : BitVec 32 := Scalar.maxsi c0_i32_623 v1067
  let v1069 : BitVec 32 := Scalar.minsi c256_i32_624 v1068
  let c256_i32_621 : BitVec 32 := 256#32
  let c0_i32_620 : BitVec 32 := 0#32
  let c1024_i32_191 : BitVec 32 := 1024#32
  let c0_i32_190 : BitVec 32 := 0#32
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let v1070 : BitVec 1 := Scalar.cmpi .sgt v1069 v1066
  let v1071 : BitVec 32 := Scalar.extui v1070
  let c0_i32_625 : BitVec 32 := 0#32
  let v1072 : BitVec 1 := Scalar.cmpi .ne v1071 c0_i32_625
  v1072

def k3_off387 (i : grid3.Coords) (v442 : BitVec 32) (v447 : BitVec 32) (k3_t97 : Fin (k3_t97_loop i v442 v447).trips) : Fin 2 → Nat :=
  let c256_i32_621 : BitVec 32 := 256#32
  let c0_i32_620 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let c1_i32_1196 : BitVec 32 := 1#32
  let arg13 : BitVec 32 := Scf.iv v1066 c1_i32_1196 k3_t97
  let v1828 : Index := Scalar.indexCast arg13
  let c0_1206 : Index := 0#32
  ![v1828.toNat, 0]
def k3_off388 (i : grid3.Coords) (v442 : BitVec 32) (v447 : BitVec 32) (k3_t97 : Fin (k3_t97_loop i v442 v447).trips) : Fin 2 → Nat :=
  let c256_i32_621 : BitVec 32 := 256#32
  let c0_i32_620 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let c1_i32_1196 : BitVec 32 := 1#32
  let arg13 : BitVec 32 := Scf.iv v1066 c1_i32_1196 k3_t97
  let v1832 : Index := Scalar.indexCast arg13
  let c16_1207 : Index := 16#32
  ![v1832.toNat, 16]
def k3_off389 (i : grid3.Coords) (v442 : BitVec 32) (v447 : BitVec 32) (k3_t97 : Fin (k3_t97_loop i v442 v447).trips) : Fin 2 → Nat :=
  let c256_i32_621 : BitVec 32 := 256#32
  let c0_i32_620 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let c1_i32_1196 : BitVec 32 := 1#32
  let arg13 : BitVec 32 := Scf.iv v1066 c1_i32_1196 k3_t97
  let v1836 : Index := Scalar.indexCast arg13
  let c32_1208 : Index := 32#32
  ![v1836.toNat, 32]
def k3_off390 (i : grid3.Coords) (v442 : BitVec 32) (v447 : BitVec 32) (k3_t97 : Fin (k3_t97_loop i v442 v447).trips) : Fin 2 → Nat :=
  let c256_i32_621 : BitVec 32 := 256#32
  let c0_i32_620 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let c1_i32_1196 : BitVec 32 := 1#32
  let arg13 : BitVec 32 := Scf.iv v1066 c1_i32_1196 k3_t97
  let v1840 : Index := Scalar.indexCast arg13
  let c48_1209 : Index := 48#32
  ![v1840.toNat, 48]
@[reducible] def k3_t98_loop (i : grid3.Coords) (v442 : BitVec 32) (v447 : BitVec 32) : Scf.Loop 32 :=
  let c256_i32_621 : BitVec 32 := 256#32
  let c0_i32_620 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let c256_i32_624 : BitVec 32 := 256#32
  let c0_i32_623 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c256_i32_622 : BitVec 32 := 256#32
  let v1067 : BitVec 32 := Scalar.subi v450 c256_i32_622
  let v1068 : BitVec 32 := Scalar.maxsi c0_i32_623 v1067
  let v1069 : BitVec 32 := Scalar.minsi c256_i32_624 v1068
  let v1805 : BitVec 32 := Scalar.subi v1069 v1066
  let c1_i32_1195 : BitVec 32 := 1#32
  let v1807 : BitVec 32 := Scalar.divsi v1805 c1_i32_1195
  let v1808 : BitVec 32 := Scalar.muli v1807 c1_i32_1195
  let v1809 : BitVec 32 := Scalar.addi v1066 v1808
  let v1806 : BitVec 32 := Scalar.addi v1066 v1805
  let c1_i32_1197 : BitVec 32 := 1#32
  ⟨v1809, v1806, c1_i32_1197⟩
def k3_off391 (i : grid3.Coords) (v442 : BitVec 32) (v447 : BitVec 32) (k3_t98 : Fin (k3_t98_loop i v442 v447).trips) : Fin 2 → Nat :=
  let c256_i32_621 : BitVec 32 := 256#32
  let c0_i32_620 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let c256_i32_624 : BitVec 32 := 256#32
  let c0_i32_623 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c256_i32_622 : BitVec 32 := 256#32
  let v1067 : BitVec 32 := Scalar.subi v450 c256_i32_622
  let v1068 : BitVec 32 := Scalar.maxsi c0_i32_623 v1067
  let v1069 : BitVec 32 := Scalar.minsi c256_i32_624 v1068
  let v1805 : BitVec 32 := Scalar.subi v1069 v1066
  let c1_i32_1195 : BitVec 32 := 1#32
  let v1807 : BitVec 32 := Scalar.divsi v1805 c1_i32_1195
  let v1808 : BitVec 32 := Scalar.muli v1807 c1_i32_1195
  let v1809 : BitVec 32 := Scalar.addi v1066 v1808
  let c1_i32_1197 : BitVec 32 := 1#32
  let arg13 : BitVec 32 := Scf.iv v1809 c1_i32_1197 k3_t98
  let v1828 : Index := Scalar.indexCast arg13
  let c0_1206 : Index := 0#32
  ![v1828.toNat, 0]
def k3_off392 (i : grid3.Coords) (v442 : BitVec 32) (v447 : BitVec 32) (k3_t98 : Fin (k3_t98_loop i v442 v447).trips) : Fin 2 → Nat :=
  let c256_i32_621 : BitVec 32 := 256#32
  let c0_i32_620 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let c256_i32_624 : BitVec 32 := 256#32
  let c0_i32_623 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c256_i32_622 : BitVec 32 := 256#32
  let v1067 : BitVec 32 := Scalar.subi v450 c256_i32_622
  let v1068 : BitVec 32 := Scalar.maxsi c0_i32_623 v1067
  let v1069 : BitVec 32 := Scalar.minsi c256_i32_624 v1068
  let v1805 : BitVec 32 := Scalar.subi v1069 v1066
  let c1_i32_1195 : BitVec 32 := 1#32
  let v1807 : BitVec 32 := Scalar.divsi v1805 c1_i32_1195
  let v1808 : BitVec 32 := Scalar.muli v1807 c1_i32_1195
  let v1809 : BitVec 32 := Scalar.addi v1066 v1808
  let c1_i32_1197 : BitVec 32 := 1#32
  let arg13 : BitVec 32 := Scf.iv v1809 c1_i32_1197 k3_t98
  let v1832 : Index := Scalar.indexCast arg13
  let c16_1207 : Index := 16#32
  ![v1832.toNat, 16]
def k3_off393 (i : grid3.Coords) (v442 : BitVec 32) (v447 : BitVec 32) (k3_t98 : Fin (k3_t98_loop i v442 v447).trips) : Fin 2 → Nat :=
  let c256_i32_621 : BitVec 32 := 256#32
  let c0_i32_620 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let c256_i32_624 : BitVec 32 := 256#32
  let c0_i32_623 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c256_i32_622 : BitVec 32 := 256#32
  let v1067 : BitVec 32 := Scalar.subi v450 c256_i32_622
  let v1068 : BitVec 32 := Scalar.maxsi c0_i32_623 v1067
  let v1069 : BitVec 32 := Scalar.minsi c256_i32_624 v1068
  let v1805 : BitVec 32 := Scalar.subi v1069 v1066
  let c1_i32_1195 : BitVec 32 := 1#32
  let v1807 : BitVec 32 := Scalar.divsi v1805 c1_i32_1195
  let v1808 : BitVec 32 := Scalar.muli v1807 c1_i32_1195
  let v1809 : BitVec 32 := Scalar.addi v1066 v1808
  let c1_i32_1197 : BitVec 32 := 1#32
  let arg13 : BitVec 32 := Scf.iv v1809 c1_i32_1197 k3_t98
  let v1836 : Index := Scalar.indexCast arg13
  let c32_1208 : Index := 32#32
  ![v1836.toNat, 32]
def k3_off394 (i : grid3.Coords) (v442 : BitVec 32) (v447 : BitVec 32) (k3_t98 : Fin (k3_t98_loop i v442 v447).trips) : Fin 2 → Nat :=
  let c256_i32_621 : BitVec 32 := 256#32
  let c0_i32_620 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c256_i32_619 : BitVec 32 := 256#32
  let v1064 : BitVec 32 := Scalar.subi v445 c256_i32_619
  let v1065 : BitVec 32 := Scalar.maxsi c0_i32_620 v1064
  let v1066 : BitVec 32 := Scalar.minsi c256_i32_621 v1065
  let c256_i32_624 : BitVec 32 := 256#32
  let c0_i32_623 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c256_i32_622 : BitVec 32 := 256#32
  let v1067 : BitVec 32 := Scalar.subi v450 c256_i32_622
  let v1068 : BitVec 32 := Scalar.maxsi c0_i32_623 v1067
  let v1069 : BitVec 32 := Scalar.minsi c256_i32_624 v1068
  let v1805 : BitVec 32 := Scalar.subi v1069 v1066
  let c1_i32_1195 : BitVec 32 := 1#32
  let v1807 : BitVec 32 := Scalar.divsi v1805 c1_i32_1195
  let v1808 : BitVec 32 := Scalar.muli v1807 c1_i32_1195
  let v1809 : BitVec 32 := Scalar.addi v1066 v1808
  let c1_i32_1197 : BitVec 32 := 1#32
  let arg13 : BitVec 32 := Scf.iv v1809 c1_i32_1197 k3_t98
  let v1840 : Index := Scalar.indexCast arg13
  let c48_1209 : Index := 48#32
  ![v1840.toNat, 48]
@[reducible] def k3_t99_loop (i : grid3.Coords) (v452 : BitVec 32) (v458 : BitVec 32) : Scf.Loop 32 :=
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let c256_i32_631 : BitVec 32 := 256#32
  let c0_i32_630 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c256_i32_629 : BitVec 32 := 256#32
  let v1076 : BitVec 32 := Scalar.subi v462 c256_i32_629
  let v1077 : BitVec 32 := Scalar.maxsi c0_i32_630 v1076
  let v1078 : BitVec 32 := Scalar.minsi c256_i32_631 v1077
  let v1805 : BitVec 32 := Scalar.subi v1078 v1075
  let c1_i32_1195 : BitVec 32 := 1#32
  let v1807 : BitVec 32 := Scalar.divsi v1805 c1_i32_1195
  let v1808 : BitVec 32 := Scalar.muli v1807 c1_i32_1195
  let v1809 : BitVec 32 := Scalar.addi v1075 v1808
  let c1_i32_1196 : BitVec 32 := 1#32
  ⟨v1075, v1809, c1_i32_1196⟩
def k3_cond50 (i : grid3.Coords) (v452 : BitVec 32) (v458 : BitVec 32) : BitVec 1 :=
  let c256_i32_631 : BitVec 32 := 256#32
  let c0_i32_630 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v460 : BitVec 32 := Scalar.subi v459 v3
  let v461 : BitVec 32 := Scalar.maxsi c0_i32_198 v460
  let v462 : BitVec 32 := Scalar.minsi c1024_i32_199 v461
  let c256_i32_629 : BitVec 32 := 256#32
  let v1076 : BitVec 32 := Scalar.subi v462 c256_i32_629
  let v1077 : BitVec 32 := Scalar.maxsi c0_i32_630 v1076
  let v1078 : BitVec 32 := Scalar.minsi c256_i32_631 v1077
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let v1079 : BitVec 1 := Scalar.cmpi .sgt v1078 v1075
  let v1080 : BitVec 32 := Scalar.extui v1079
  let c0_i32_632 : BitVec 32 := 0#32
  let v1081 : BitVec 1 := Scalar.cmpi .ne v1080 c0_i32_632
  v1081

def k3_off395 (i : grid3.Coords) (v452 : BitVec 32) (v458 : BitVec 32) (k3_t99 : Fin (k3_t99_loop i v452 v458).trips) : Fin 2 → Nat :=
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let c1_i32_1196 : BitVec 32 := 1#32
  let arg13 : BitVec 32 := Scf.iv v1075 c1_i32_1196 k3_t99
  let v1828 : Index := Scalar.indexCast arg13
  let c64 : Index := 64#32
  ![v1828.toNat, 64]
def k3_off396 (i : grid3.Coords) (v452 : BitVec 32) (v458 : BitVec 32) (k3_t99 : Fin (k3_t99_loop i v452 v458).trips) : Fin 2 → Nat :=
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let c1_i32_1196 : BitVec 32 := 1#32
  let arg13 : BitVec 32 := Scf.iv v1075 c1_i32_1196 k3_t99
  let v1832 : Index := Scalar.indexCast arg13
  let c80 : Index := 80#32
  ![v1832.toNat, 80]
def k3_off397 (i : grid3.Coords) (v452 : BitVec 32) (v458 : BitVec 32) (k3_t99 : Fin (k3_t99_loop i v452 v458).trips) : Fin 2 → Nat :=
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let c1_i32_1196 : BitVec 32 := 1#32
  let arg13 : BitVec 32 := Scf.iv v1075 c1_i32_1196 k3_t99
  let v1836 : Index := Scalar.indexCast arg13
  let c96 : Index := 96#32
  ![v1836.toNat, 96]
def k3_off398 (i : grid3.Coords) (v452 : BitVec 32) (v458 : BitVec 32) (k3_t99 : Fin (k3_t99_loop i v452 v458).trips) : Fin 2 → Nat :=
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let c1_i32_1196 : BitVec 32 := 1#32
  let arg13 : BitVec 32 := Scf.iv v1075 c1_i32_1196 k3_t99
  let v1840 : Index := Scalar.indexCast arg13
  let c112 : Index := 112#32
  ![v1840.toNat, 112]
@[reducible] def k3_t100_loop (i : grid3.Coords) (v452 : BitVec 32) (v458 : BitVec 32) : Scf.Loop 32 :=
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let c256_i32_631 : BitVec 32 := 256#32
  let c0_i32_630 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c256_i32_629 : BitVec 32 := 256#32
  let v1076 : BitVec 32 := Scalar.subi v462 c256_i32_629
  let v1077 : BitVec 32 := Scalar.maxsi c0_i32_630 v1076
  let v1078 : BitVec 32 := Scalar.minsi c256_i32_631 v1077
  let v1805 : BitVec 32 := Scalar.subi v1078 v1075
  let c1_i32_1195 : BitVec 32 := 1#32
  let v1807 : BitVec 32 := Scalar.divsi v1805 c1_i32_1195
  let v1808 : BitVec 32 := Scalar.muli v1807 c1_i32_1195
  let v1809 : BitVec 32 := Scalar.addi v1075 v1808
  let v1806 : BitVec 32 := Scalar.addi v1075 v1805
  let c1_i32_1197 : BitVec 32 := 1#32
  ⟨v1809, v1806, c1_i32_1197⟩
def k3_off399 (i : grid3.Coords) (v452 : BitVec 32) (v458 : BitVec 32) (k3_t100 : Fin (k3_t100_loop i v452 v458).trips) : Fin 2 → Nat :=
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let c256_i32_631 : BitVec 32 := 256#32
  let c0_i32_630 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c256_i32_629 : BitVec 32 := 256#32
  let v1076 : BitVec 32 := Scalar.subi v462 c256_i32_629
  let v1077 : BitVec 32 := Scalar.maxsi c0_i32_630 v1076
  let v1078 : BitVec 32 := Scalar.minsi c256_i32_631 v1077
  let v1805 : BitVec 32 := Scalar.subi v1078 v1075
  let c1_i32_1195 : BitVec 32 := 1#32
  let v1807 : BitVec 32 := Scalar.divsi v1805 c1_i32_1195
  let v1808 : BitVec 32 := Scalar.muli v1807 c1_i32_1195
  let v1809 : BitVec 32 := Scalar.addi v1075 v1808
  let c1_i32_1197 : BitVec 32 := 1#32
  let arg13 : BitVec 32 := Scf.iv v1809 c1_i32_1197 k3_t100
  let v1828 : Index := Scalar.indexCast arg13
  let c64 : Index := 64#32
  ![v1828.toNat, 64]
def k3_off400 (i : grid3.Coords) (v452 : BitVec 32) (v458 : BitVec 32) (k3_t100 : Fin (k3_t100_loop i v452 v458).trips) : Fin 2 → Nat :=
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let c256_i32_631 : BitVec 32 := 256#32
  let c0_i32_630 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c256_i32_629 : BitVec 32 := 256#32
  let v1076 : BitVec 32 := Scalar.subi v462 c256_i32_629
  let v1077 : BitVec 32 := Scalar.maxsi c0_i32_630 v1076
  let v1078 : BitVec 32 := Scalar.minsi c256_i32_631 v1077
  let v1805 : BitVec 32 := Scalar.subi v1078 v1075
  let c1_i32_1195 : BitVec 32 := 1#32
  let v1807 : BitVec 32 := Scalar.divsi v1805 c1_i32_1195
  let v1808 : BitVec 32 := Scalar.muli v1807 c1_i32_1195
  let v1809 : BitVec 32 := Scalar.addi v1075 v1808
  let c1_i32_1197 : BitVec 32 := 1#32
  let arg13 : BitVec 32 := Scf.iv v1809 c1_i32_1197 k3_t100
  let v1832 : Index := Scalar.indexCast arg13
  let c80 : Index := 80#32
  ![v1832.toNat, 80]
def k3_off401 (i : grid3.Coords) (v452 : BitVec 32) (v458 : BitVec 32) (k3_t100 : Fin (k3_t100_loop i v452 v458).trips) : Fin 2 → Nat :=
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let c256_i32_631 : BitVec 32 := 256#32
  let c0_i32_630 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c256_i32_629 : BitVec 32 := 256#32
  let v1076 : BitVec 32 := Scalar.subi v462 c256_i32_629
  let v1077 : BitVec 32 := Scalar.maxsi c0_i32_630 v1076
  let v1078 : BitVec 32 := Scalar.minsi c256_i32_631 v1077
  let v1805 : BitVec 32 := Scalar.subi v1078 v1075
  let c1_i32_1195 : BitVec 32 := 1#32
  let v1807 : BitVec 32 := Scalar.divsi v1805 c1_i32_1195
  let v1808 : BitVec 32 := Scalar.muli v1807 c1_i32_1195
  let v1809 : BitVec 32 := Scalar.addi v1075 v1808
  let c1_i32_1197 : BitVec 32 := 1#32
  let arg13 : BitVec 32 := Scf.iv v1809 c1_i32_1197 k3_t100
  let v1836 : Index := Scalar.indexCast arg13
  let c96 : Index := 96#32
  ![v1836.toNat, 96]
def k3_off402 (i : grid3.Coords) (v452 : BitVec 32) (v458 : BitVec 32) (k3_t100 : Fin (k3_t100_loop i v452 v458).trips) : Fin 2 → Nat :=
  let c256_i32_628 : BitVec 32 := 256#32
  let c0_i32_627 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c256_i32_626 : BitVec 32 := 256#32
  let v1073 : BitVec 32 := Scalar.subi v456 c256_i32_626
  let v1074 : BitVec 32 := Scalar.maxsi c0_i32_627 v1073
  let v1075 : BitVec 32 := Scalar.minsi c256_i32_628 v1074
  let c256_i32_631 : BitVec 32 := 256#32
  let c0_i32_630 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c256_i32_629 : BitVec 32 := 256#32
  let v1076 : BitVec 32 := Scalar.subi v462 c256_i32_629
  let v1077 : BitVec 32 := Scalar.maxsi c0_i32_630 v1076
  let v1078 : BitVec 32 := Scalar.minsi c256_i32_631 v1077
  let v1805 : BitVec 32 := Scalar.subi v1078 v1075
  let c1_i32_1195 : BitVec 32 := 1#32
  let v1807 : BitVec 32 := Scalar.divsi v1805 c1_i32_1195
  let v1808 : BitVec 32 := Scalar.muli v1807 c1_i32_1195
  let v1809 : BitVec 32 := Scalar.addi v1075 v1808
  let c1_i32_1197 : BitVec 32 := 1#32
  let arg13 : BitVec 32 := Scf.iv v1809 c1_i32_1197 k3_t100
  let v1840 : Index := Scalar.indexCast arg13
  let c112 : Index := 112#32
  ![v1840.toNat, 112]
@[reducible] def k3_t101_loop (i : grid3.Coords) (v464 : BitVec 32) (v469 : BitVec 32) : Scf.Loop 32 :=
  let c256_i32_635 : BitVec 32 := 256#32
  let c0_i32_634 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let c256_i32_638 : BitVec 32 := 256#32
  let c0_i32_637 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c256_i32_636 : BitVec 32 := 256#32
  let v1085 : BitVec 32 := Scalar.subi v472 c256_i32_636
  let v1086 : BitVec 32 := Scalar.maxsi c0_i32_637 v1085
  let v1087 : BitVec 32 := Scalar.minsi c256_i32_638 v1086
  let v1805 : BitVec 32 := Scalar.subi v1087 v1084
  let c1_i32_1195 : BitVec 32 := 1#32
  let v1807 : BitVec 32 := Scalar.divsi v1805 c1_i32_1195
  let v1808 : BitVec 32 := Scalar.muli v1807 c1_i32_1195
  let v1809 : BitVec 32 := Scalar.addi v1084 v1808
  let c1_i32_1196 : BitVec 32 := 1#32
  ⟨v1084, v1809, c1_i32_1196⟩
def k3_cond51 (i : grid3.Coords) (v464 : BitVec 32) (v469 : BitVec 32) : BitVec 1 :=
  let c256_i32_638 : BitVec 32 := 256#32
  let c0_i32_637 : BitVec 32 := 0#32
  let c1024_i32_203 : BitVec 32 := 1024#32
  let c0_i32_202 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v470 : BitVec 32 := Scalar.subi v469 v3
  let v471 : BitVec 32 := Scalar.maxsi c0_i32_202 v470
  let v472 : BitVec 32 := Scalar.minsi c1024_i32_203 v471
  let c256_i32_636 : BitVec 32 := 256#32
  let v1085 : BitVec 32 := Scalar.subi v472 c256_i32_636
  let v1086 : BitVec 32 := Scalar.maxsi c0_i32_637 v1085
  let v1087 : BitVec 32 := Scalar.minsi c256_i32_638 v1086
  let c256_i32_635 : BitVec 32 := 256#32
  let c0_i32_634 : BitVec 32 := 0#32
  let c1024_i32_201 : BitVec 32 := 1024#32
  let c0_i32_200 : BitVec 32 := 0#32
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let v1088 : BitVec 1 := Scalar.cmpi .sgt v1087 v1084
  let v1089 : BitVec 32 := Scalar.extui v1088
  let c0_i32_639 : BitVec 32 := 0#32
  let v1090 : BitVec 1 := Scalar.cmpi .ne v1089 c0_i32_639
  v1090

def k3_off403 (i : grid3.Coords) (v464 : BitVec 32) (v469 : BitVec 32) (k3_t101 : Fin (k3_t101_loop i v464 v469).trips) : Fin 2 → Nat :=
  let c256_i32_635 : BitVec 32 := 256#32
  let c0_i32_634 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let c1_i32_1196 : BitVec 32 := 1#32
  let arg13 : BitVec 32 := Scf.iv v1084 c1_i32_1196 k3_t101
  let v1828 : Index := Scalar.indexCast arg13
  let c0_1206 : Index := 0#32
  ![v1828.toNat, 0]
def k3_off404 (i : grid3.Coords) (v464 : BitVec 32) (v469 : BitVec 32) (k3_t101 : Fin (k3_t101_loop i v464 v469).trips) : Fin 2 → Nat :=
  let c256_i32_635 : BitVec 32 := 256#32
  let c0_i32_634 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let c1_i32_1196 : BitVec 32 := 1#32
  let arg13 : BitVec 32 := Scf.iv v1084 c1_i32_1196 k3_t101
  let v1832 : Index := Scalar.indexCast arg13
  let c16_1207 : Index := 16#32
  ![v1832.toNat, 16]
def k3_off405 (i : grid3.Coords) (v464 : BitVec 32) (v469 : BitVec 32) (k3_t101 : Fin (k3_t101_loop i v464 v469).trips) : Fin 2 → Nat :=
  let c256_i32_635 : BitVec 32 := 256#32
  let c0_i32_634 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let c1_i32_1196 : BitVec 32 := 1#32
  let arg13 : BitVec 32 := Scf.iv v1084 c1_i32_1196 k3_t101
  let v1836 : Index := Scalar.indexCast arg13
  let c32_1208 : Index := 32#32
  ![v1836.toNat, 32]
def k3_off406 (i : grid3.Coords) (v464 : BitVec 32) (v469 : BitVec 32) (k3_t101 : Fin (k3_t101_loop i v464 v469).trips) : Fin 2 → Nat :=
  let c256_i32_635 : BitVec 32 := 256#32
  let c0_i32_634 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let c1_i32_1196 : BitVec 32 := 1#32
  let arg13 : BitVec 32 := Scf.iv v1084 c1_i32_1196 k3_t101
  let v1840 : Index := Scalar.indexCast arg13
  let c48_1209 : Index := 48#32
  ![v1840.toNat, 48]
@[reducible] def k3_t102_loop (i : grid3.Coords) (v464 : BitVec 32) (v469 : BitVec 32) : Scf.Loop 32 :=
  let c256_i32_635 : BitVec 32 := 256#32
  let c0_i32_634 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let c256_i32_638 : BitVec 32 := 256#32
  let c0_i32_637 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c256_i32_636 : BitVec 32 := 256#32
  let v1085 : BitVec 32 := Scalar.subi v472 c256_i32_636
  let v1086 : BitVec 32 := Scalar.maxsi c0_i32_637 v1085
  let v1087 : BitVec 32 := Scalar.minsi c256_i32_638 v1086
  let v1805 : BitVec 32 := Scalar.subi v1087 v1084
  let c1_i32_1195 : BitVec 32 := 1#32
  let v1807 : BitVec 32 := Scalar.divsi v1805 c1_i32_1195
  let v1808 : BitVec 32 := Scalar.muli v1807 c1_i32_1195
  let v1809 : BitVec 32 := Scalar.addi v1084 v1808
  let v1806 : BitVec 32 := Scalar.addi v1084 v1805
  let c1_i32_1197 : BitVec 32 := 1#32
  ⟨v1809, v1806, c1_i32_1197⟩
def k3_off407 (i : grid3.Coords) (v464 : BitVec 32) (v469 : BitVec 32) (k3_t102 : Fin (k3_t102_loop i v464 v469).trips) : Fin 2 → Nat :=
  let c256_i32_635 : BitVec 32 := 256#32
  let c0_i32_634 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let c256_i32_638 : BitVec 32 := 256#32
  let c0_i32_637 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c256_i32_636 : BitVec 32 := 256#32
  let v1085 : BitVec 32 := Scalar.subi v472 c256_i32_636
  let v1086 : BitVec 32 := Scalar.maxsi c0_i32_637 v1085
  let v1087 : BitVec 32 := Scalar.minsi c256_i32_638 v1086
  let v1805 : BitVec 32 := Scalar.subi v1087 v1084
  let c1_i32_1195 : BitVec 32 := 1#32
  let v1807 : BitVec 32 := Scalar.divsi v1805 c1_i32_1195
  let v1808 : BitVec 32 := Scalar.muli v1807 c1_i32_1195
  let v1809 : BitVec 32 := Scalar.addi v1084 v1808
  let c1_i32_1197 : BitVec 32 := 1#32
  let arg13 : BitVec 32 := Scf.iv v1809 c1_i32_1197 k3_t102
  let v1828 : Index := Scalar.indexCast arg13
  let c0_1206 : Index := 0#32
  ![v1828.toNat, 0]
def k3_off408 (i : grid3.Coords) (v464 : BitVec 32) (v469 : BitVec 32) (k3_t102 : Fin (k3_t102_loop i v464 v469).trips) : Fin 2 → Nat :=
  let c256_i32_635 : BitVec 32 := 256#32
  let c0_i32_634 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let c256_i32_638 : BitVec 32 := 256#32
  let c0_i32_637 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c256_i32_636 : BitVec 32 := 256#32
  let v1085 : BitVec 32 := Scalar.subi v472 c256_i32_636
  let v1086 : BitVec 32 := Scalar.maxsi c0_i32_637 v1085
  let v1087 : BitVec 32 := Scalar.minsi c256_i32_638 v1086
  let v1805 : BitVec 32 := Scalar.subi v1087 v1084
  let c1_i32_1195 : BitVec 32 := 1#32
  let v1807 : BitVec 32 := Scalar.divsi v1805 c1_i32_1195
  let v1808 : BitVec 32 := Scalar.muli v1807 c1_i32_1195
  let v1809 : BitVec 32 := Scalar.addi v1084 v1808
  let c1_i32_1197 : BitVec 32 := 1#32
  let arg13 : BitVec 32 := Scf.iv v1809 c1_i32_1197 k3_t102
  let v1832 : Index := Scalar.indexCast arg13
  let c16_1207 : Index := 16#32
  ![v1832.toNat, 16]
def k3_off409 (i : grid3.Coords) (v464 : BitVec 32) (v469 : BitVec 32) (k3_t102 : Fin (k3_t102_loop i v464 v469).trips) : Fin 2 → Nat :=
  let c256_i32_635 : BitVec 32 := 256#32
  let c0_i32_634 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let c256_i32_638 : BitVec 32 := 256#32
  let c0_i32_637 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c256_i32_636 : BitVec 32 := 256#32
  let v1085 : BitVec 32 := Scalar.subi v472 c256_i32_636
  let v1086 : BitVec 32 := Scalar.maxsi c0_i32_637 v1085
  let v1087 : BitVec 32 := Scalar.minsi c256_i32_638 v1086
  let v1805 : BitVec 32 := Scalar.subi v1087 v1084
  let c1_i32_1195 : BitVec 32 := 1#32
  let v1807 : BitVec 32 := Scalar.divsi v1805 c1_i32_1195
  let v1808 : BitVec 32 := Scalar.muli v1807 c1_i32_1195
  let v1809 : BitVec 32 := Scalar.addi v1084 v1808
  let c1_i32_1197 : BitVec 32 := 1#32
  let arg13 : BitVec 32 := Scf.iv v1809 c1_i32_1197 k3_t102
  let v1836 : Index := Scalar.indexCast arg13
  let c32_1208 : Index := 32#32
  ![v1836.toNat, 32]
def k3_off410 (i : grid3.Coords) (v464 : BitVec 32) (v469 : BitVec 32) (k3_t102 : Fin (k3_t102_loop i v464 v469).trips) : Fin 2 → Nat :=
  let c256_i32_635 : BitVec 32 := 256#32
  let c0_i32_634 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c256_i32_633 : BitVec 32 := 256#32
  let v1082 : BitVec 32 := Scalar.subi v467 c256_i32_633
  let v1083 : BitVec 32 := Scalar.maxsi c0_i32_634 v1082
  let v1084 : BitVec 32 := Scalar.minsi c256_i32_635 v1083
  let c256_i32_638 : BitVec 32 := 256#32
  let c0_i32_637 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c256_i32_636 : BitVec 32 := 256#32
  let v1085 : BitVec 32 := Scalar.subi v472 c256_i32_636
  let v1086 : BitVec 32 := Scalar.maxsi c0_i32_637 v1085
  let v1087 : BitVec 32 := Scalar.minsi c256_i32_638 v1086
  let v1805 : BitVec 32 := Scalar.subi v1087 v1084
  let c1_i32_1195 : BitVec 32 := 1#32
  let v1807 : BitVec 32 := Scalar.divsi v1805 c1_i32_1195
  let v1808 : BitVec 32 := Scalar.muli v1807 c1_i32_1195
  let v1809 : BitVec 32 := Scalar.addi v1084 v1808
  let c1_i32_1197 : BitVec 32 := 1#32
  let arg13 : BitVec 32 := Scf.iv v1809 c1_i32_1197 k3_t102
  let v1840 : Index := Scalar.indexCast arg13
  let c48_1209 : Index := 48#32
  ![v1840.toNat, 48]
@[reducible] def k3_t103_loop (i : grid3.Coords) (v474 : BitVec 32) (v480 : BitVec 32) : Scf.Loop 32 :=
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let c256_i32_645 : BitVec 32 := 256#32
  let c0_i32_644 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c256_i32_643 : BitVec 32 := 256#32
  let v1094 : BitVec 32 := Scalar.subi v484 c256_i32_643
  let v1095 : BitVec 32 := Scalar.maxsi c0_i32_644 v1094
  let v1096 : BitVec 32 := Scalar.minsi c256_i32_645 v1095
  let v1805 : BitVec 32 := Scalar.subi v1096 v1093
  let c1_i32_1195 : BitVec 32 := 1#32
  let v1807 : BitVec 32 := Scalar.divsi v1805 c1_i32_1195
  let v1808 : BitVec 32 := Scalar.muli v1807 c1_i32_1195
  let v1809 : BitVec 32 := Scalar.addi v1093 v1808
  let c1_i32_1196 : BitVec 32 := 1#32
  ⟨v1093, v1809, c1_i32_1196⟩
def k3_cond52 (i : grid3.Coords) (v474 : BitVec 32) (v480 : BitVec 32) : BitVec 1 :=
  let c256_i32_645 : BitVec 32 := 256#32
  let c0_i32_644 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v482 : BitVec 32 := Scalar.subi v481 v3
  let v483 : BitVec 32 := Scalar.maxsi c0_i32_208 v482
  let v484 : BitVec 32 := Scalar.minsi c1024_i32_209 v483
  let c256_i32_643 : BitVec 32 := 256#32
  let v1094 : BitVec 32 := Scalar.subi v484 c256_i32_643
  let v1095 : BitVec 32 := Scalar.maxsi c0_i32_644 v1094
  let v1096 : BitVec 32 := Scalar.minsi c256_i32_645 v1095
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let v1097 : BitVec 1 := Scalar.cmpi .sgt v1096 v1093
  let v1098 : BitVec 32 := Scalar.extui v1097
  let c0_i32_646 : BitVec 32 := 0#32
  let v1099 : BitVec 1 := Scalar.cmpi .ne v1098 c0_i32_646
  v1099

def k3_off411 (i : grid3.Coords) (v474 : BitVec 32) (v480 : BitVec 32) (k3_t103 : Fin (k3_t103_loop i v474 v480).trips) : Fin 2 → Nat :=
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let c1_i32_1196 : BitVec 32 := 1#32
  let arg13 : BitVec 32 := Scf.iv v1093 c1_i32_1196 k3_t103
  let v1828 : Index := Scalar.indexCast arg13
  let c64 : Index := 64#32
  ![v1828.toNat, 64]
def k3_off412 (i : grid3.Coords) (v474 : BitVec 32) (v480 : BitVec 32) (k3_t103 : Fin (k3_t103_loop i v474 v480).trips) : Fin 2 → Nat :=
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let c1_i32_1196 : BitVec 32 := 1#32
  let arg13 : BitVec 32 := Scf.iv v1093 c1_i32_1196 k3_t103
  let v1832 : Index := Scalar.indexCast arg13
  let c80 : Index := 80#32
  ![v1832.toNat, 80]
def k3_off413 (i : grid3.Coords) (v474 : BitVec 32) (v480 : BitVec 32) (k3_t103 : Fin (k3_t103_loop i v474 v480).trips) : Fin 2 → Nat :=
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let c1_i32_1196 : BitVec 32 := 1#32
  let arg13 : BitVec 32 := Scf.iv v1093 c1_i32_1196 k3_t103
  let v1836 : Index := Scalar.indexCast arg13
  let c96 : Index := 96#32
  ![v1836.toNat, 96]
def k3_off414 (i : grid3.Coords) (v474 : BitVec 32) (v480 : BitVec 32) (k3_t103 : Fin (k3_t103_loop i v474 v480).trips) : Fin 2 → Nat :=
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let c1_i32_1196 : BitVec 32 := 1#32
  let arg13 : BitVec 32 := Scf.iv v1093 c1_i32_1196 k3_t103
  let v1840 : Index := Scalar.indexCast arg13
  let c112 : Index := 112#32
  ![v1840.toNat, 112]
@[reducible] def k3_t104_loop (i : grid3.Coords) (v474 : BitVec 32) (v480 : BitVec 32) : Scf.Loop 32 :=
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let c256_i32_645 : BitVec 32 := 256#32
  let c0_i32_644 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c256_i32_643 : BitVec 32 := 256#32
  let v1094 : BitVec 32 := Scalar.subi v484 c256_i32_643
  let v1095 : BitVec 32 := Scalar.maxsi c0_i32_644 v1094
  let v1096 : BitVec 32 := Scalar.minsi c256_i32_645 v1095
  let v1805 : BitVec 32 := Scalar.subi v1096 v1093
  let c1_i32_1195 : BitVec 32 := 1#32
  let v1807 : BitVec 32 := Scalar.divsi v1805 c1_i32_1195
  let v1808 : BitVec 32 := Scalar.muli v1807 c1_i32_1195
  let v1809 : BitVec 32 := Scalar.addi v1093 v1808
  let v1806 : BitVec 32 := Scalar.addi v1093 v1805
  let c1_i32_1197 : BitVec 32 := 1#32
  ⟨v1809, v1806, c1_i32_1197⟩
def k3_off415 (i : grid3.Coords) (v474 : BitVec 32) (v480 : BitVec 32) (k3_t104 : Fin (k3_t104_loop i v474 v480).trips) : Fin 2 → Nat :=
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let c256_i32_645 : BitVec 32 := 256#32
  let c0_i32_644 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c256_i32_643 : BitVec 32 := 256#32
  let v1094 : BitVec 32 := Scalar.subi v484 c256_i32_643
  let v1095 : BitVec 32 := Scalar.maxsi c0_i32_644 v1094
  let v1096 : BitVec 32 := Scalar.minsi c256_i32_645 v1095
  let v1805 : BitVec 32 := Scalar.subi v1096 v1093
  let c1_i32_1195 : BitVec 32 := 1#32
  let v1807 : BitVec 32 := Scalar.divsi v1805 c1_i32_1195
  let v1808 : BitVec 32 := Scalar.muli v1807 c1_i32_1195
  let v1809 : BitVec 32 := Scalar.addi v1093 v1808
  let c1_i32_1197 : BitVec 32 := 1#32
  let arg13 : BitVec 32 := Scf.iv v1809 c1_i32_1197 k3_t104
  let v1828 : Index := Scalar.indexCast arg13
  let c64 : Index := 64#32
  ![v1828.toNat, 64]
def k3_off416 (i : grid3.Coords) (v474 : BitVec 32) (v480 : BitVec 32) (k3_t104 : Fin (k3_t104_loop i v474 v480).trips) : Fin 2 → Nat :=
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let c256_i32_645 : BitVec 32 := 256#32
  let c0_i32_644 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c256_i32_643 : BitVec 32 := 256#32
  let v1094 : BitVec 32 := Scalar.subi v484 c256_i32_643
  let v1095 : BitVec 32 := Scalar.maxsi c0_i32_644 v1094
  let v1096 : BitVec 32 := Scalar.minsi c256_i32_645 v1095
  let v1805 : BitVec 32 := Scalar.subi v1096 v1093
  let c1_i32_1195 : BitVec 32 := 1#32
  let v1807 : BitVec 32 := Scalar.divsi v1805 c1_i32_1195
  let v1808 : BitVec 32 := Scalar.muli v1807 c1_i32_1195
  let v1809 : BitVec 32 := Scalar.addi v1093 v1808
  let c1_i32_1197 : BitVec 32 := 1#32
  let arg13 : BitVec 32 := Scf.iv v1809 c1_i32_1197 k3_t104
  let v1832 : Index := Scalar.indexCast arg13
  let c80 : Index := 80#32
  ![v1832.toNat, 80]
def k3_off417 (i : grid3.Coords) (v474 : BitVec 32) (v480 : BitVec 32) (k3_t104 : Fin (k3_t104_loop i v474 v480).trips) : Fin 2 → Nat :=
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let c256_i32_645 : BitVec 32 := 256#32
  let c0_i32_644 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c256_i32_643 : BitVec 32 := 256#32
  let v1094 : BitVec 32 := Scalar.subi v484 c256_i32_643
  let v1095 : BitVec 32 := Scalar.maxsi c0_i32_644 v1094
  let v1096 : BitVec 32 := Scalar.minsi c256_i32_645 v1095
  let v1805 : BitVec 32 := Scalar.subi v1096 v1093
  let c1_i32_1195 : BitVec 32 := 1#32
  let v1807 : BitVec 32 := Scalar.divsi v1805 c1_i32_1195
  let v1808 : BitVec 32 := Scalar.muli v1807 c1_i32_1195
  let v1809 : BitVec 32 := Scalar.addi v1093 v1808
  let c1_i32_1197 : BitVec 32 := 1#32
  let arg13 : BitVec 32 := Scf.iv v1809 c1_i32_1197 k3_t104
  let v1836 : Index := Scalar.indexCast arg13
  let c96 : Index := 96#32
  ![v1836.toNat, 96]
def k3_off418 (i : grid3.Coords) (v474 : BitVec 32) (v480 : BitVec 32) (k3_t104 : Fin (k3_t104_loop i v474 v480).trips) : Fin 2 → Nat :=
  let c256_i32_642 : BitVec 32 := 256#32
  let c0_i32_641 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c256_i32_640 : BitVec 32 := 256#32
  let v1091 : BitVec 32 := Scalar.subi v478 c256_i32_640
  let v1092 : BitVec 32 := Scalar.maxsi c0_i32_641 v1091
  let v1093 : BitVec 32 := Scalar.minsi c256_i32_642 v1092
  let c256_i32_645 : BitVec 32 := 256#32
  let c0_i32_644 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c256_i32_643 : BitVec 32 := 256#32
  let v1094 : BitVec 32 := Scalar.subi v484 c256_i32_643
  let v1095 : BitVec 32 := Scalar.maxsi c0_i32_644 v1094
  let v1096 : BitVec 32 := Scalar.minsi c256_i32_645 v1095
  let v1805 : BitVec 32 := Scalar.subi v1096 v1093
  let c1_i32_1195 : BitVec 32 := 1#32
  let v1807 : BitVec 32 := Scalar.divsi v1805 c1_i32_1195
  let v1808 : BitVec 32 := Scalar.muli v1807 c1_i32_1195
  let v1809 : BitVec 32 := Scalar.addi v1093 v1808
  let c1_i32_1197 : BitVec 32 := 1#32
  let arg13 : BitVec 32 := Scf.iv v1809 c1_i32_1197 k3_t104
  let v1840 : Index := Scalar.indexCast arg13
  let c112 : Index := 112#32
  ![v1840.toNat, 112]
@[reducible] def k3_t105_loop (i : grid3.Coords) (v486 : BitVec 32) (v491 : BitVec 32) : Scf.Loop 32 :=
  let c256_i32_649 : BitVec 32 := 256#32
  let c0_i32_648 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let c256_i32_652 : BitVec 32 := 256#32
  let c0_i32_651 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c256_i32_650 : BitVec 32 := 256#32
  let v1103 : BitVec 32 := Scalar.subi v494 c256_i32_650
  let v1104 : BitVec 32 := Scalar.maxsi c0_i32_651 v1103
  let v1105 : BitVec 32 := Scalar.minsi c256_i32_652 v1104
  let v1805 : BitVec 32 := Scalar.subi v1105 v1102
  let c1_i32_1195 : BitVec 32 := 1#32
  let v1807 : BitVec 32 := Scalar.divsi v1805 c1_i32_1195
  let v1808 : BitVec 32 := Scalar.muli v1807 c1_i32_1195
  let v1809 : BitVec 32 := Scalar.addi v1102 v1808
  let c1_i32_1196 : BitVec 32 := 1#32
  ⟨v1102, v1809, c1_i32_1196⟩
def k3_cond53 (i : grid3.Coords) (v486 : BitVec 32) (v491 : BitVec 32) : BitVec 1 :=
  let c256_i32_652 : BitVec 32 := 256#32
  let c0_i32_651 : BitVec 32 := 0#32
  let c1024_i32_213 : BitVec 32 := 1024#32
  let c0_i32_212 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v492 : BitVec 32 := Scalar.subi v491 v3
  let v493 : BitVec 32 := Scalar.maxsi c0_i32_212 v492
  let v494 : BitVec 32 := Scalar.minsi c1024_i32_213 v493
  let c256_i32_650 : BitVec 32 := 256#32
  let v1103 : BitVec 32 := Scalar.subi v494 c256_i32_650
  let v1104 : BitVec 32 := Scalar.maxsi c0_i32_651 v1103
  let v1105 : BitVec 32 := Scalar.minsi c256_i32_652 v1104
  let c256_i32_649 : BitVec 32 := 256#32
  let c0_i32_648 : BitVec 32 := 0#32
  let c1024_i32_211 : BitVec 32 := 1024#32
  let c0_i32_210 : BitVec 32 := 0#32
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let v1106 : BitVec 1 := Scalar.cmpi .sgt v1105 v1102
  let v1107 : BitVec 32 := Scalar.extui v1106
  let c0_i32_653 : BitVec 32 := 0#32
  let v1108 : BitVec 1 := Scalar.cmpi .ne v1107 c0_i32_653
  v1108

def k3_off419 (i : grid3.Coords) (v486 : BitVec 32) (v491 : BitVec 32) (k3_t105 : Fin (k3_t105_loop i v486 v491).trips) : Fin 2 → Nat :=
  let c256_i32_649 : BitVec 32 := 256#32
  let c0_i32_648 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let c1_i32_1196 : BitVec 32 := 1#32
  let arg13 : BitVec 32 := Scf.iv v1102 c1_i32_1196 k3_t105
  let v1828 : Index := Scalar.indexCast arg13
  let c0_1206 : Index := 0#32
  ![v1828.toNat, 0]
def k3_off420 (i : grid3.Coords) (v486 : BitVec 32) (v491 : BitVec 32) (k3_t105 : Fin (k3_t105_loop i v486 v491).trips) : Fin 2 → Nat :=
  let c256_i32_649 : BitVec 32 := 256#32
  let c0_i32_648 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let c1_i32_1196 : BitVec 32 := 1#32
  let arg13 : BitVec 32 := Scf.iv v1102 c1_i32_1196 k3_t105
  let v1832 : Index := Scalar.indexCast arg13
  let c16_1207 : Index := 16#32
  ![v1832.toNat, 16]
def k3_off421 (i : grid3.Coords) (v486 : BitVec 32) (v491 : BitVec 32) (k3_t105 : Fin (k3_t105_loop i v486 v491).trips) : Fin 2 → Nat :=
  let c256_i32_649 : BitVec 32 := 256#32
  let c0_i32_648 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let c1_i32_1196 : BitVec 32 := 1#32
  let arg13 : BitVec 32 := Scf.iv v1102 c1_i32_1196 k3_t105
  let v1836 : Index := Scalar.indexCast arg13
  let c32_1208 : Index := 32#32
  ![v1836.toNat, 32]
def k3_off422 (i : grid3.Coords) (v486 : BitVec 32) (v491 : BitVec 32) (k3_t105 : Fin (k3_t105_loop i v486 v491).trips) : Fin 2 → Nat :=
  let c256_i32_649 : BitVec 32 := 256#32
  let c0_i32_648 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let c1_i32_1196 : BitVec 32 := 1#32
  let arg13 : BitVec 32 := Scf.iv v1102 c1_i32_1196 k3_t105
  let v1840 : Index := Scalar.indexCast arg13
  let c48_1209 : Index := 48#32
  ![v1840.toNat, 48]
@[reducible] def k3_t106_loop (i : grid3.Coords) (v486 : BitVec 32) (v491 : BitVec 32) : Scf.Loop 32 :=
  let c256_i32_649 : BitVec 32 := 256#32
  let c0_i32_648 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let c256_i32_652 : BitVec 32 := 256#32
  let c0_i32_651 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c256_i32_650 : BitVec 32 := 256#32
  let v1103 : BitVec 32 := Scalar.subi v494 c256_i32_650
  let v1104 : BitVec 32 := Scalar.maxsi c0_i32_651 v1103
  let v1105 : BitVec 32 := Scalar.minsi c256_i32_652 v1104
  let v1805 : BitVec 32 := Scalar.subi v1105 v1102
  let c1_i32_1195 : BitVec 32 := 1#32
  let v1807 : BitVec 32 := Scalar.divsi v1805 c1_i32_1195
  let v1808 : BitVec 32 := Scalar.muli v1807 c1_i32_1195
  let v1809 : BitVec 32 := Scalar.addi v1102 v1808
  let v1806 : BitVec 32 := Scalar.addi v1102 v1805
  let c1_i32_1197 : BitVec 32 := 1#32
  ⟨v1809, v1806, c1_i32_1197⟩
def k3_off423 (i : grid3.Coords) (v486 : BitVec 32) (v491 : BitVec 32) (k3_t106 : Fin (k3_t106_loop i v486 v491).trips) : Fin 2 → Nat :=
  let c256_i32_649 : BitVec 32 := 256#32
  let c0_i32_648 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let c256_i32_652 : BitVec 32 := 256#32
  let c0_i32_651 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c256_i32_650 : BitVec 32 := 256#32
  let v1103 : BitVec 32 := Scalar.subi v494 c256_i32_650
  let v1104 : BitVec 32 := Scalar.maxsi c0_i32_651 v1103
  let v1105 : BitVec 32 := Scalar.minsi c256_i32_652 v1104
  let v1805 : BitVec 32 := Scalar.subi v1105 v1102
  let c1_i32_1195 : BitVec 32 := 1#32
  let v1807 : BitVec 32 := Scalar.divsi v1805 c1_i32_1195
  let v1808 : BitVec 32 := Scalar.muli v1807 c1_i32_1195
  let v1809 : BitVec 32 := Scalar.addi v1102 v1808
  let c1_i32_1197 : BitVec 32 := 1#32
  let arg13 : BitVec 32 := Scf.iv v1809 c1_i32_1197 k3_t106
  let v1828 : Index := Scalar.indexCast arg13
  let c0_1206 : Index := 0#32
  ![v1828.toNat, 0]
def k3_off424 (i : grid3.Coords) (v486 : BitVec 32) (v491 : BitVec 32) (k3_t106 : Fin (k3_t106_loop i v486 v491).trips) : Fin 2 → Nat :=
  let c256_i32_649 : BitVec 32 := 256#32
  let c0_i32_648 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let c256_i32_652 : BitVec 32 := 256#32
  let c0_i32_651 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c256_i32_650 : BitVec 32 := 256#32
  let v1103 : BitVec 32 := Scalar.subi v494 c256_i32_650
  let v1104 : BitVec 32 := Scalar.maxsi c0_i32_651 v1103
  let v1105 : BitVec 32 := Scalar.minsi c256_i32_652 v1104
  let v1805 : BitVec 32 := Scalar.subi v1105 v1102
  let c1_i32_1195 : BitVec 32 := 1#32
  let v1807 : BitVec 32 := Scalar.divsi v1805 c1_i32_1195
  let v1808 : BitVec 32 := Scalar.muli v1807 c1_i32_1195
  let v1809 : BitVec 32 := Scalar.addi v1102 v1808
  let c1_i32_1197 : BitVec 32 := 1#32
  let arg13 : BitVec 32 := Scf.iv v1809 c1_i32_1197 k3_t106
  let v1832 : Index := Scalar.indexCast arg13
  let c16_1207 : Index := 16#32
  ![v1832.toNat, 16]
def k3_off425 (i : grid3.Coords) (v486 : BitVec 32) (v491 : BitVec 32) (k3_t106 : Fin (k3_t106_loop i v486 v491).trips) : Fin 2 → Nat :=
  let c256_i32_649 : BitVec 32 := 256#32
  let c0_i32_648 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let c256_i32_652 : BitVec 32 := 256#32
  let c0_i32_651 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c256_i32_650 : BitVec 32 := 256#32
  let v1103 : BitVec 32 := Scalar.subi v494 c256_i32_650
  let v1104 : BitVec 32 := Scalar.maxsi c0_i32_651 v1103
  let v1105 : BitVec 32 := Scalar.minsi c256_i32_652 v1104
  let v1805 : BitVec 32 := Scalar.subi v1105 v1102
  let c1_i32_1195 : BitVec 32 := 1#32
  let v1807 : BitVec 32 := Scalar.divsi v1805 c1_i32_1195
  let v1808 : BitVec 32 := Scalar.muli v1807 c1_i32_1195
  let v1809 : BitVec 32 := Scalar.addi v1102 v1808
  let c1_i32_1197 : BitVec 32 := 1#32
  let arg13 : BitVec 32 := Scf.iv v1809 c1_i32_1197 k3_t106
  let v1836 : Index := Scalar.indexCast arg13
  let c32_1208 : Index := 32#32
  ![v1836.toNat, 32]
def k3_off426 (i : grid3.Coords) (v486 : BitVec 32) (v491 : BitVec 32) (k3_t106 : Fin (k3_t106_loop i v486 v491).trips) : Fin 2 → Nat :=
  let c256_i32_649 : BitVec 32 := 256#32
  let c0_i32_648 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c256_i32_647 : BitVec 32 := 256#32
  let v1100 : BitVec 32 := Scalar.subi v489 c256_i32_647
  let v1101 : BitVec 32 := Scalar.maxsi c0_i32_648 v1100
  let v1102 : BitVec 32 := Scalar.minsi c256_i32_649 v1101
  let c256_i32_652 : BitVec 32 := 256#32
  let c0_i32_651 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c256_i32_650 : BitVec 32 := 256#32
  let v1103 : BitVec 32 := Scalar.subi v494 c256_i32_650
  let v1104 : BitVec 32 := Scalar.maxsi c0_i32_651 v1103
  let v1105 : BitVec 32 := Scalar.minsi c256_i32_652 v1104
  let v1805 : BitVec 32 := Scalar.subi v1105 v1102
  let c1_i32_1195 : BitVec 32 := 1#32
  let v1807 : BitVec 32 := Scalar.divsi v1805 c1_i32_1195
  let v1808 : BitVec 32 := Scalar.muli v1807 c1_i32_1195
  let v1809 : BitVec 32 := Scalar.addi v1102 v1808
  let c1_i32_1197 : BitVec 32 := 1#32
  let arg13 : BitVec 32 := Scf.iv v1809 c1_i32_1197 k3_t106
  let v1840 : Index := Scalar.indexCast arg13
  let c48_1209 : Index := 48#32
  ![v1840.toNat, 48]
@[reducible] def k3_t107_loop (i : grid3.Coords) (v496 : BitVec 32) (v502 : BitVec 32) : Scf.Loop 32 :=
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let c256_i32_659 : BitVec 32 := 256#32
  let c0_i32_658 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c256_i32_657 : BitVec 32 := 256#32
  let v1112 : BitVec 32 := Scalar.subi v506 c256_i32_657
  let v1113 : BitVec 32 := Scalar.maxsi c0_i32_658 v1112
  let v1114 : BitVec 32 := Scalar.minsi c256_i32_659 v1113
  let v1805 : BitVec 32 := Scalar.subi v1114 v1111
  let c1_i32_1195 : BitVec 32 := 1#32
  let v1807 : BitVec 32 := Scalar.divsi v1805 c1_i32_1195
  let v1808 : BitVec 32 := Scalar.muli v1807 c1_i32_1195
  let v1809 : BitVec 32 := Scalar.addi v1111 v1808
  let c1_i32_1196 : BitVec 32 := 1#32
  ⟨v1111, v1809, c1_i32_1196⟩
def k3_cond54 (i : grid3.Coords) (v496 : BitVec 32) (v502 : BitVec 32) : BitVec 1 :=
  let c256_i32_659 : BitVec 32 := 256#32
  let c0_i32_658 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v504 : BitVec 32 := Scalar.subi v503 v3
  let v505 : BitVec 32 := Scalar.maxsi c0_i32_218 v504
  let v506 : BitVec 32 := Scalar.minsi c1024_i32_219 v505
  let c256_i32_657 : BitVec 32 := 256#32
  let v1112 : BitVec 32 := Scalar.subi v506 c256_i32_657
  let v1113 : BitVec 32 := Scalar.maxsi c0_i32_658 v1112
  let v1114 : BitVec 32 := Scalar.minsi c256_i32_659 v1113
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let v1115 : BitVec 1 := Scalar.cmpi .sgt v1114 v1111
  let v1116 : BitVec 32 := Scalar.extui v1115
  let c0_i32_660 : BitVec 32 := 0#32
  let v1117 : BitVec 1 := Scalar.cmpi .ne v1116 c0_i32_660
  v1117

def k3_off427 (i : grid3.Coords) (v496 : BitVec 32) (v502 : BitVec 32) (k3_t107 : Fin (k3_t107_loop i v496 v502).trips) : Fin 2 → Nat :=
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let c1_i32_1196 : BitVec 32 := 1#32
  let arg13 : BitVec 32 := Scf.iv v1111 c1_i32_1196 k3_t107
  let v1828 : Index := Scalar.indexCast arg13
  let c64 : Index := 64#32
  ![v1828.toNat, 64]
def k3_off428 (i : grid3.Coords) (v496 : BitVec 32) (v502 : BitVec 32) (k3_t107 : Fin (k3_t107_loop i v496 v502).trips) : Fin 2 → Nat :=
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let c1_i32_1196 : BitVec 32 := 1#32
  let arg13 : BitVec 32 := Scf.iv v1111 c1_i32_1196 k3_t107
  let v1832 : Index := Scalar.indexCast arg13
  let c80 : Index := 80#32
  ![v1832.toNat, 80]
def k3_off429 (i : grid3.Coords) (v496 : BitVec 32) (v502 : BitVec 32) (k3_t107 : Fin (k3_t107_loop i v496 v502).trips) : Fin 2 → Nat :=
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let c1_i32_1196 : BitVec 32 := 1#32
  let arg13 : BitVec 32 := Scf.iv v1111 c1_i32_1196 k3_t107
  let v1836 : Index := Scalar.indexCast arg13
  let c96 : Index := 96#32
  ![v1836.toNat, 96]
def k3_off430 (i : grid3.Coords) (v496 : BitVec 32) (v502 : BitVec 32) (k3_t107 : Fin (k3_t107_loop i v496 v502).trips) : Fin 2 → Nat :=
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let c1_i32_1196 : BitVec 32 := 1#32
  let arg13 : BitVec 32 := Scf.iv v1111 c1_i32_1196 k3_t107
  let v1840 : Index := Scalar.indexCast arg13
  let c112 : Index := 112#32
  ![v1840.toNat, 112]
@[reducible] def k3_t108_loop (i : grid3.Coords) (v496 : BitVec 32) (v502 : BitVec 32) : Scf.Loop 32 :=
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let c256_i32_659 : BitVec 32 := 256#32
  let c0_i32_658 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c256_i32_657 : BitVec 32 := 256#32
  let v1112 : BitVec 32 := Scalar.subi v506 c256_i32_657
  let v1113 : BitVec 32 := Scalar.maxsi c0_i32_658 v1112
  let v1114 : BitVec 32 := Scalar.minsi c256_i32_659 v1113
  let v1805 : BitVec 32 := Scalar.subi v1114 v1111
  let c1_i32_1195 : BitVec 32 := 1#32
  let v1807 : BitVec 32 := Scalar.divsi v1805 c1_i32_1195
  let v1808 : BitVec 32 := Scalar.muli v1807 c1_i32_1195
  let v1809 : BitVec 32 := Scalar.addi v1111 v1808
  let v1806 : BitVec 32 := Scalar.addi v1111 v1805
  let c1_i32_1197 : BitVec 32 := 1#32
  ⟨v1809, v1806, c1_i32_1197⟩
def k3_off431 (i : grid3.Coords) (v496 : BitVec 32) (v502 : BitVec 32) (k3_t108 : Fin (k3_t108_loop i v496 v502).trips) : Fin 2 → Nat :=
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let c256_i32_659 : BitVec 32 := 256#32
  let c0_i32_658 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c256_i32_657 : BitVec 32 := 256#32
  let v1112 : BitVec 32 := Scalar.subi v506 c256_i32_657
  let v1113 : BitVec 32 := Scalar.maxsi c0_i32_658 v1112
  let v1114 : BitVec 32 := Scalar.minsi c256_i32_659 v1113
  let v1805 : BitVec 32 := Scalar.subi v1114 v1111
  let c1_i32_1195 : BitVec 32 := 1#32
  let v1807 : BitVec 32 := Scalar.divsi v1805 c1_i32_1195
  let v1808 : BitVec 32 := Scalar.muli v1807 c1_i32_1195
  let v1809 : BitVec 32 := Scalar.addi v1111 v1808
  let c1_i32_1197 : BitVec 32 := 1#32
  let arg13 : BitVec 32 := Scf.iv v1809 c1_i32_1197 k3_t108
  let v1828 : Index := Scalar.indexCast arg13
  let c64 : Index := 64#32
  ![v1828.toNat, 64]
def k3_off432 (i : grid3.Coords) (v496 : BitVec 32) (v502 : BitVec 32) (k3_t108 : Fin (k3_t108_loop i v496 v502).trips) : Fin 2 → Nat :=
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let c256_i32_659 : BitVec 32 := 256#32
  let c0_i32_658 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c256_i32_657 : BitVec 32 := 256#32
  let v1112 : BitVec 32 := Scalar.subi v506 c256_i32_657
  let v1113 : BitVec 32 := Scalar.maxsi c0_i32_658 v1112
  let v1114 : BitVec 32 := Scalar.minsi c256_i32_659 v1113
  let v1805 : BitVec 32 := Scalar.subi v1114 v1111
  let c1_i32_1195 : BitVec 32 := 1#32
  let v1807 : BitVec 32 := Scalar.divsi v1805 c1_i32_1195
  let v1808 : BitVec 32 := Scalar.muli v1807 c1_i32_1195
  let v1809 : BitVec 32 := Scalar.addi v1111 v1808
  let c1_i32_1197 : BitVec 32 := 1#32
  let arg13 : BitVec 32 := Scf.iv v1809 c1_i32_1197 k3_t108
  let v1832 : Index := Scalar.indexCast arg13
  let c80 : Index := 80#32
  ![v1832.toNat, 80]
def k3_off433 (i : grid3.Coords) (v496 : BitVec 32) (v502 : BitVec 32) (k3_t108 : Fin (k3_t108_loop i v496 v502).trips) : Fin 2 → Nat :=
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let c256_i32_659 : BitVec 32 := 256#32
  let c0_i32_658 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c256_i32_657 : BitVec 32 := 256#32
  let v1112 : BitVec 32 := Scalar.subi v506 c256_i32_657
  let v1113 : BitVec 32 := Scalar.maxsi c0_i32_658 v1112
  let v1114 : BitVec 32 := Scalar.minsi c256_i32_659 v1113
  let v1805 : BitVec 32 := Scalar.subi v1114 v1111
  let c1_i32_1195 : BitVec 32 := 1#32
  let v1807 : BitVec 32 := Scalar.divsi v1805 c1_i32_1195
  let v1808 : BitVec 32 := Scalar.muli v1807 c1_i32_1195
  let v1809 : BitVec 32 := Scalar.addi v1111 v1808
  let c1_i32_1197 : BitVec 32 := 1#32
  let arg13 : BitVec 32 := Scf.iv v1809 c1_i32_1197 k3_t108
  let v1836 : Index := Scalar.indexCast arg13
  let c96 : Index := 96#32
  ![v1836.toNat, 96]
def k3_off434 (i : grid3.Coords) (v496 : BitVec 32) (v502 : BitVec 32) (k3_t108 : Fin (k3_t108_loop i v496 v502).trips) : Fin 2 → Nat :=
  let c256_i32_656 : BitVec 32 := 256#32
  let c0_i32_655 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c256_i32_654 : BitVec 32 := 256#32
  let v1109 : BitVec 32 := Scalar.subi v500 c256_i32_654
  let v1110 : BitVec 32 := Scalar.maxsi c0_i32_655 v1109
  let v1111 : BitVec 32 := Scalar.minsi c256_i32_656 v1110
  let c256_i32_659 : BitVec 32 := 256#32
  let c0_i32_658 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c256_i32_657 : BitVec 32 := 256#32
  let v1112 : BitVec 32 := Scalar.subi v506 c256_i32_657
  let v1113 : BitVec 32 := Scalar.maxsi c0_i32_658 v1112
  let v1114 : BitVec 32 := Scalar.minsi c256_i32_659 v1113
  let v1805 : BitVec 32 := Scalar.subi v1114 v1111
  let c1_i32_1195 : BitVec 32 := 1#32
  let v1807 : BitVec 32 := Scalar.divsi v1805 c1_i32_1195
  let v1808 : BitVec 32 := Scalar.muli v1807 c1_i32_1195
  let v1809 : BitVec 32 := Scalar.addi v1111 v1808
  let c1_i32_1197 : BitVec 32 := 1#32
  let arg13 : BitVec 32 := Scf.iv v1809 c1_i32_1197 k3_t108
  let v1840 : Index := Scalar.indexCast arg13
  let c112 : Index := 112#32
  ![v1840.toNat, 112]
@[reducible] def k3_t109_loop (i : grid3.Coords) (v508 : BitVec 32) (v513 : BitVec 32) : Scf.Loop 32 :=
  let c256_i32_663 : BitVec 32 := 256#32
  let c0_i32_662 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let c256_i32_666 : BitVec 32 := 256#32
  let c0_i32_665 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c256_i32_664 : BitVec 32 := 256#32
  let v1121 : BitVec 32 := Scalar.subi v516 c256_i32_664
  let v1122 : BitVec 32 := Scalar.maxsi c0_i32_665 v1121
  let v1123 : BitVec 32 := Scalar.minsi c256_i32_666 v1122
  let v1805 : BitVec 32 := Scalar.subi v1123 v1120
  let c1_i32_1195 : BitVec 32 := 1#32
  let v1807 : BitVec 32 := Scalar.divsi v1805 c1_i32_1195
  let v1808 : BitVec 32 := Scalar.muli v1807 c1_i32_1195
  let v1809 : BitVec 32 := Scalar.addi v1120 v1808
  let c1_i32_1196 : BitVec 32 := 1#32
  ⟨v1120, v1809, c1_i32_1196⟩
def k3_cond55 (i : grid3.Coords) (v508 : BitVec 32) (v513 : BitVec 32) : BitVec 1 :=
  let c256_i32_666 : BitVec 32 := 256#32
  let c0_i32_665 : BitVec 32 := 0#32
  let c1024_i32_223 : BitVec 32 := 1024#32
  let c0_i32_222 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v514 : BitVec 32 := Scalar.subi v513 v3
  let v515 : BitVec 32 := Scalar.maxsi c0_i32_222 v514
  let v516 : BitVec 32 := Scalar.minsi c1024_i32_223 v515
  let c256_i32_664 : BitVec 32 := 256#32
  let v1121 : BitVec 32 := Scalar.subi v516 c256_i32_664
  let v1122 : BitVec 32 := Scalar.maxsi c0_i32_665 v1121
  let v1123 : BitVec 32 := Scalar.minsi c256_i32_666 v1122
  let c256_i32_663 : BitVec 32 := 256#32
  let c0_i32_662 : BitVec 32 := 0#32
  let c1024_i32_221 : BitVec 32 := 1024#32
  let c0_i32_220 : BitVec 32 := 0#32
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let v1124 : BitVec 1 := Scalar.cmpi .sgt v1123 v1120
  let v1125 : BitVec 32 := Scalar.extui v1124
  let c0_i32_667 : BitVec 32 := 0#32
  let v1126 : BitVec 1 := Scalar.cmpi .ne v1125 c0_i32_667
  v1126

def k3_off435 (i : grid3.Coords) (v508 : BitVec 32) (v513 : BitVec 32) (k3_t109 : Fin (k3_t109_loop i v508 v513).trips) : Fin 2 → Nat :=
  let c256_i32_663 : BitVec 32 := 256#32
  let c0_i32_662 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let c1_i32_1196 : BitVec 32 := 1#32
  let arg13 : BitVec 32 := Scf.iv v1120 c1_i32_1196 k3_t109
  let v1828 : Index := Scalar.indexCast arg13
  let c0_1206 : Index := 0#32
  ![v1828.toNat, 0]
def k3_off436 (i : grid3.Coords) (v508 : BitVec 32) (v513 : BitVec 32) (k3_t109 : Fin (k3_t109_loop i v508 v513).trips) : Fin 2 → Nat :=
  let c256_i32_663 : BitVec 32 := 256#32
  let c0_i32_662 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let c1_i32_1196 : BitVec 32 := 1#32
  let arg13 : BitVec 32 := Scf.iv v1120 c1_i32_1196 k3_t109
  let v1832 : Index := Scalar.indexCast arg13
  let c16_1207 : Index := 16#32
  ![v1832.toNat, 16]
def k3_off437 (i : grid3.Coords) (v508 : BitVec 32) (v513 : BitVec 32) (k3_t109 : Fin (k3_t109_loop i v508 v513).trips) : Fin 2 → Nat :=
  let c256_i32_663 : BitVec 32 := 256#32
  let c0_i32_662 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let c1_i32_1196 : BitVec 32 := 1#32
  let arg13 : BitVec 32 := Scf.iv v1120 c1_i32_1196 k3_t109
  let v1836 : Index := Scalar.indexCast arg13
  let c32_1208 : Index := 32#32
  ![v1836.toNat, 32]
def k3_off438 (i : grid3.Coords) (v508 : BitVec 32) (v513 : BitVec 32) (k3_t109 : Fin (k3_t109_loop i v508 v513).trips) : Fin 2 → Nat :=
  let c256_i32_663 : BitVec 32 := 256#32
  let c0_i32_662 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let c1_i32_1196 : BitVec 32 := 1#32
  let arg13 : BitVec 32 := Scf.iv v1120 c1_i32_1196 k3_t109
  let v1840 : Index := Scalar.indexCast arg13
  let c48_1209 : Index := 48#32
  ![v1840.toNat, 48]
@[reducible] def k3_t110_loop (i : grid3.Coords) (v508 : BitVec 32) (v513 : BitVec 32) : Scf.Loop 32 :=
  let c256_i32_663 : BitVec 32 := 256#32
  let c0_i32_662 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let c256_i32_666 : BitVec 32 := 256#32
  let c0_i32_665 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c256_i32_664 : BitVec 32 := 256#32
  let v1121 : BitVec 32 := Scalar.subi v516 c256_i32_664
  let v1122 : BitVec 32 := Scalar.maxsi c0_i32_665 v1121
  let v1123 : BitVec 32 := Scalar.minsi c256_i32_666 v1122
  let v1805 : BitVec 32 := Scalar.subi v1123 v1120
  let c1_i32_1195 : BitVec 32 := 1#32
  let v1807 : BitVec 32 := Scalar.divsi v1805 c1_i32_1195
  let v1808 : BitVec 32 := Scalar.muli v1807 c1_i32_1195
  let v1809 : BitVec 32 := Scalar.addi v1120 v1808
  let v1806 : BitVec 32 := Scalar.addi v1120 v1805
  let c1_i32_1197 : BitVec 32 := 1#32
  ⟨v1809, v1806, c1_i32_1197⟩
def k3_off439 (i : grid3.Coords) (v508 : BitVec 32) (v513 : BitVec 32) (k3_t110 : Fin (k3_t110_loop i v508 v513).trips) : Fin 2 → Nat :=
  let c256_i32_663 : BitVec 32 := 256#32
  let c0_i32_662 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let c256_i32_666 : BitVec 32 := 256#32
  let c0_i32_665 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c256_i32_664 : BitVec 32 := 256#32
  let v1121 : BitVec 32 := Scalar.subi v516 c256_i32_664
  let v1122 : BitVec 32 := Scalar.maxsi c0_i32_665 v1121
  let v1123 : BitVec 32 := Scalar.minsi c256_i32_666 v1122
  let v1805 : BitVec 32 := Scalar.subi v1123 v1120
  let c1_i32_1195 : BitVec 32 := 1#32
  let v1807 : BitVec 32 := Scalar.divsi v1805 c1_i32_1195
  let v1808 : BitVec 32 := Scalar.muli v1807 c1_i32_1195
  let v1809 : BitVec 32 := Scalar.addi v1120 v1808
  let c1_i32_1197 : BitVec 32 := 1#32
  let arg13 : BitVec 32 := Scf.iv v1809 c1_i32_1197 k3_t110
  let v1828 : Index := Scalar.indexCast arg13
  let c0_1206 : Index := 0#32
  ![v1828.toNat, 0]
def k3_off440 (i : grid3.Coords) (v508 : BitVec 32) (v513 : BitVec 32) (k3_t110 : Fin (k3_t110_loop i v508 v513).trips) : Fin 2 → Nat :=
  let c256_i32_663 : BitVec 32 := 256#32
  let c0_i32_662 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let c256_i32_666 : BitVec 32 := 256#32
  let c0_i32_665 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c256_i32_664 : BitVec 32 := 256#32
  let v1121 : BitVec 32 := Scalar.subi v516 c256_i32_664
  let v1122 : BitVec 32 := Scalar.maxsi c0_i32_665 v1121
  let v1123 : BitVec 32 := Scalar.minsi c256_i32_666 v1122
  let v1805 : BitVec 32 := Scalar.subi v1123 v1120
  let c1_i32_1195 : BitVec 32 := 1#32
  let v1807 : BitVec 32 := Scalar.divsi v1805 c1_i32_1195
  let v1808 : BitVec 32 := Scalar.muli v1807 c1_i32_1195
  let v1809 : BitVec 32 := Scalar.addi v1120 v1808
  let c1_i32_1197 : BitVec 32 := 1#32
  let arg13 : BitVec 32 := Scf.iv v1809 c1_i32_1197 k3_t110
  let v1832 : Index := Scalar.indexCast arg13
  let c16_1207 : Index := 16#32
  ![v1832.toNat, 16]
def k3_off441 (i : grid3.Coords) (v508 : BitVec 32) (v513 : BitVec 32) (k3_t110 : Fin (k3_t110_loop i v508 v513).trips) : Fin 2 → Nat :=
  let c256_i32_663 : BitVec 32 := 256#32
  let c0_i32_662 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let c256_i32_666 : BitVec 32 := 256#32
  let c0_i32_665 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c256_i32_664 : BitVec 32 := 256#32
  let v1121 : BitVec 32 := Scalar.subi v516 c256_i32_664
  let v1122 : BitVec 32 := Scalar.maxsi c0_i32_665 v1121
  let v1123 : BitVec 32 := Scalar.minsi c256_i32_666 v1122
  let v1805 : BitVec 32 := Scalar.subi v1123 v1120
  let c1_i32_1195 : BitVec 32 := 1#32
  let v1807 : BitVec 32 := Scalar.divsi v1805 c1_i32_1195
  let v1808 : BitVec 32 := Scalar.muli v1807 c1_i32_1195
  let v1809 : BitVec 32 := Scalar.addi v1120 v1808
  let c1_i32_1197 : BitVec 32 := 1#32
  let arg13 : BitVec 32 := Scf.iv v1809 c1_i32_1197 k3_t110
  let v1836 : Index := Scalar.indexCast arg13
  let c32_1208 : Index := 32#32
  ![v1836.toNat, 32]
def k3_off442 (i : grid3.Coords) (v508 : BitVec 32) (v513 : BitVec 32) (k3_t110 : Fin (k3_t110_loop i v508 v513).trips) : Fin 2 → Nat :=
  let c256_i32_663 : BitVec 32 := 256#32
  let c0_i32_662 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c256_i32_661 : BitVec 32 := 256#32
  let v1118 : BitVec 32 := Scalar.subi v511 c256_i32_661
  let v1119 : BitVec 32 := Scalar.maxsi c0_i32_662 v1118
  let v1120 : BitVec 32 := Scalar.minsi c256_i32_663 v1119
  let c256_i32_666 : BitVec 32 := 256#32
  let c0_i32_665 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c256_i32_664 : BitVec 32 := 256#32
  let v1121 : BitVec 32 := Scalar.subi v516 c256_i32_664
  let v1122 : BitVec 32 := Scalar.maxsi c0_i32_665 v1121
  let v1123 : BitVec 32 := Scalar.minsi c256_i32_666 v1122
  let v1805 : BitVec 32 := Scalar.subi v1123 v1120
  let c1_i32_1195 : BitVec 32 := 1#32
  let v1807 : BitVec 32 := Scalar.divsi v1805 c1_i32_1195
  let v1808 : BitVec 32 := Scalar.muli v1807 c1_i32_1195
  let v1809 : BitVec 32 := Scalar.addi v1120 v1808
  let c1_i32_1197 : BitVec 32 := 1#32
  let arg13 : BitVec 32 := Scf.iv v1809 c1_i32_1197 k3_t110
  let v1840 : Index := Scalar.indexCast arg13
  let c48_1209 : Index := 48#32
  ![v1840.toNat, 48]
@[reducible] def k3_t111_loop (i : grid3.Coords) (v518 : BitVec 32) (v524 : BitVec 32) : Scf.Loop 32 :=
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let c256_i32_673 : BitVec 32 := 256#32
  let c0_i32_672 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c256_i32_671 : BitVec 32 := 256#32
  let v1130 : BitVec 32 := Scalar.subi v528 c256_i32_671
  let v1131 : BitVec 32 := Scalar.maxsi c0_i32_672 v1130
  let v1132 : BitVec 32 := Scalar.minsi c256_i32_673 v1131
  let v1805 : BitVec 32 := Scalar.subi v1132 v1129
  let c1_i32_1195 : BitVec 32 := 1#32
  let v1807 : BitVec 32 := Scalar.divsi v1805 c1_i32_1195
  let v1808 : BitVec 32 := Scalar.muli v1807 c1_i32_1195
  let v1809 : BitVec 32 := Scalar.addi v1129 v1808
  let c1_i32_1196 : BitVec 32 := 1#32
  ⟨v1129, v1809, c1_i32_1196⟩
def k3_cond56 (i : grid3.Coords) (v518 : BitVec 32) (v524 : BitVec 32) : BitVec 1 :=
  let c256_i32_673 : BitVec 32 := 256#32
  let c0_i32_672 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v526 : BitVec 32 := Scalar.subi v525 v3
  let v527 : BitVec 32 := Scalar.maxsi c0_i32_228 v526
  let v528 : BitVec 32 := Scalar.minsi c1024_i32_229 v527
  let c256_i32_671 : BitVec 32 := 256#32
  let v1130 : BitVec 32 := Scalar.subi v528 c256_i32_671
  let v1131 : BitVec 32 := Scalar.maxsi c0_i32_672 v1130
  let v1132 : BitVec 32 := Scalar.minsi c256_i32_673 v1131
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let v1133 : BitVec 1 := Scalar.cmpi .sgt v1132 v1129
  let v1134 : BitVec 32 := Scalar.extui v1133
  let c0_i32_674 : BitVec 32 := 0#32
  let v1135 : BitVec 1 := Scalar.cmpi .ne v1134 c0_i32_674
  v1135

def k3_off443 (i : grid3.Coords) (v518 : BitVec 32) (v524 : BitVec 32) (k3_t111 : Fin (k3_t111_loop i v518 v524).trips) : Fin 2 → Nat :=
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let c1_i32_1196 : BitVec 32 := 1#32
  let arg13 : BitVec 32 := Scf.iv v1129 c1_i32_1196 k3_t111
  let v1828 : Index := Scalar.indexCast arg13
  let c64 : Index := 64#32
  ![v1828.toNat, 64]
def k3_off444 (i : grid3.Coords) (v518 : BitVec 32) (v524 : BitVec 32) (k3_t111 : Fin (k3_t111_loop i v518 v524).trips) : Fin 2 → Nat :=
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let c1_i32_1196 : BitVec 32 := 1#32
  let arg13 : BitVec 32 := Scf.iv v1129 c1_i32_1196 k3_t111
  let v1832 : Index := Scalar.indexCast arg13
  let c80 : Index := 80#32
  ![v1832.toNat, 80]
def k3_off445 (i : grid3.Coords) (v518 : BitVec 32) (v524 : BitVec 32) (k3_t111 : Fin (k3_t111_loop i v518 v524).trips) : Fin 2 → Nat :=
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let c1_i32_1196 : BitVec 32 := 1#32
  let arg13 : BitVec 32 := Scf.iv v1129 c1_i32_1196 k3_t111
  let v1836 : Index := Scalar.indexCast arg13
  let c96 : Index := 96#32
  ![v1836.toNat, 96]
def k3_off446 (i : grid3.Coords) (v518 : BitVec 32) (v524 : BitVec 32) (k3_t111 : Fin (k3_t111_loop i v518 v524).trips) : Fin 2 → Nat :=
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let c1_i32_1196 : BitVec 32 := 1#32
  let arg13 : BitVec 32 := Scf.iv v1129 c1_i32_1196 k3_t111
  let v1840 : Index := Scalar.indexCast arg13
  let c112 : Index := 112#32
  ![v1840.toNat, 112]
@[reducible] def k3_t112_loop (i : grid3.Coords) (v518 : BitVec 32) (v524 : BitVec 32) : Scf.Loop 32 :=
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let c256_i32_673 : BitVec 32 := 256#32
  let c0_i32_672 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c256_i32_671 : BitVec 32 := 256#32
  let v1130 : BitVec 32 := Scalar.subi v528 c256_i32_671
  let v1131 : BitVec 32 := Scalar.maxsi c0_i32_672 v1130
  let v1132 : BitVec 32 := Scalar.minsi c256_i32_673 v1131
  let v1805 : BitVec 32 := Scalar.subi v1132 v1129
  let c1_i32_1195 : BitVec 32 := 1#32
  let v1807 : BitVec 32 := Scalar.divsi v1805 c1_i32_1195
  let v1808 : BitVec 32 := Scalar.muli v1807 c1_i32_1195
  let v1809 : BitVec 32 := Scalar.addi v1129 v1808
  let v1806 : BitVec 32 := Scalar.addi v1129 v1805
  let c1_i32_1197 : BitVec 32 := 1#32
  ⟨v1809, v1806, c1_i32_1197⟩
def k3_off447 (i : grid3.Coords) (v518 : BitVec 32) (v524 : BitVec 32) (k3_t112 : Fin (k3_t112_loop i v518 v524).trips) : Fin 2 → Nat :=
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let c256_i32_673 : BitVec 32 := 256#32
  let c0_i32_672 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c256_i32_671 : BitVec 32 := 256#32
  let v1130 : BitVec 32 := Scalar.subi v528 c256_i32_671
  let v1131 : BitVec 32 := Scalar.maxsi c0_i32_672 v1130
  let v1132 : BitVec 32 := Scalar.minsi c256_i32_673 v1131
  let v1805 : BitVec 32 := Scalar.subi v1132 v1129
  let c1_i32_1195 : BitVec 32 := 1#32
  let v1807 : BitVec 32 := Scalar.divsi v1805 c1_i32_1195
  let v1808 : BitVec 32 := Scalar.muli v1807 c1_i32_1195
  let v1809 : BitVec 32 := Scalar.addi v1129 v1808
  let c1_i32_1197 : BitVec 32 := 1#32
  let arg13 : BitVec 32 := Scf.iv v1809 c1_i32_1197 k3_t112
  let v1828 : Index := Scalar.indexCast arg13
  let c64 : Index := 64#32
  ![v1828.toNat, 64]
def k3_off448 (i : grid3.Coords) (v518 : BitVec 32) (v524 : BitVec 32) (k3_t112 : Fin (k3_t112_loop i v518 v524).trips) : Fin 2 → Nat :=
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let c256_i32_673 : BitVec 32 := 256#32
  let c0_i32_672 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c256_i32_671 : BitVec 32 := 256#32
  let v1130 : BitVec 32 := Scalar.subi v528 c256_i32_671
  let v1131 : BitVec 32 := Scalar.maxsi c0_i32_672 v1130
  let v1132 : BitVec 32 := Scalar.minsi c256_i32_673 v1131
  let v1805 : BitVec 32 := Scalar.subi v1132 v1129
  let c1_i32_1195 : BitVec 32 := 1#32
  let v1807 : BitVec 32 := Scalar.divsi v1805 c1_i32_1195
  let v1808 : BitVec 32 := Scalar.muli v1807 c1_i32_1195
  let v1809 : BitVec 32 := Scalar.addi v1129 v1808
  let c1_i32_1197 : BitVec 32 := 1#32
  let arg13 : BitVec 32 := Scf.iv v1809 c1_i32_1197 k3_t112
  let v1832 : Index := Scalar.indexCast arg13
  let c80 : Index := 80#32
  ![v1832.toNat, 80]
def k3_off449 (i : grid3.Coords) (v518 : BitVec 32) (v524 : BitVec 32) (k3_t112 : Fin (k3_t112_loop i v518 v524).trips) : Fin 2 → Nat :=
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let c256_i32_673 : BitVec 32 := 256#32
  let c0_i32_672 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c256_i32_671 : BitVec 32 := 256#32
  let v1130 : BitVec 32 := Scalar.subi v528 c256_i32_671
  let v1131 : BitVec 32 := Scalar.maxsi c0_i32_672 v1130
  let v1132 : BitVec 32 := Scalar.minsi c256_i32_673 v1131
  let v1805 : BitVec 32 := Scalar.subi v1132 v1129
  let c1_i32_1195 : BitVec 32 := 1#32
  let v1807 : BitVec 32 := Scalar.divsi v1805 c1_i32_1195
  let v1808 : BitVec 32 := Scalar.muli v1807 c1_i32_1195
  let v1809 : BitVec 32 := Scalar.addi v1129 v1808
  let c1_i32_1197 : BitVec 32 := 1#32
  let arg13 : BitVec 32 := Scf.iv v1809 c1_i32_1197 k3_t112
  let v1836 : Index := Scalar.indexCast arg13
  let c96 : Index := 96#32
  ![v1836.toNat, 96]
def k3_off450 (i : grid3.Coords) (v518 : BitVec 32) (v524 : BitVec 32) (k3_t112 : Fin (k3_t112_loop i v518 v524).trips) : Fin 2 → Nat :=
  let c256_i32_670 : BitVec 32 := 256#32
  let c0_i32_669 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c256_i32_668 : BitVec 32 := 256#32
  let v1127 : BitVec 32 := Scalar.subi v522 c256_i32_668
  let v1128 : BitVec 32 := Scalar.maxsi c0_i32_669 v1127
  let v1129 : BitVec 32 := Scalar.minsi c256_i32_670 v1128
  let c256_i32_673 : BitVec 32 := 256#32
  let c0_i32_672 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c256_i32_671 : BitVec 32 := 256#32
  let v1130 : BitVec 32 := Scalar.subi v528 c256_i32_671
  let v1131 : BitVec 32 := Scalar.maxsi c0_i32_672 v1130
  let v1132 : BitVec 32 := Scalar.minsi c256_i32_673 v1131
  let v1805 : BitVec 32 := Scalar.subi v1132 v1129
  let c1_i32_1195 : BitVec 32 := 1#32
  let v1807 : BitVec 32 := Scalar.divsi v1805 c1_i32_1195
  let v1808 : BitVec 32 := Scalar.muli v1807 c1_i32_1195
  let v1809 : BitVec 32 := Scalar.addi v1129 v1808
  let c1_i32_1197 : BitVec 32 := 1#32
  let arg13 : BitVec 32 := Scf.iv v1809 c1_i32_1197 k3_t112
  let v1840 : Index := Scalar.indexCast arg13
  let c112 : Index := 112#32
  ![v1840.toNat, 112]
@[reducible] def k3_t113_loop (i : grid3.Coords) (v530 : BitVec 32) (v535 : BitVec 32) : Scf.Loop 32 :=
  let c256_i32_677 : BitVec 32 := 256#32
  let c0_i32_676 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let c256_i32_680 : BitVec 32 := 256#32
  let c0_i32_679 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c256_i32_678 : BitVec 32 := 256#32
  let v1139 : BitVec 32 := Scalar.subi v538 c256_i32_678
  let v1140 : BitVec 32 := Scalar.maxsi c0_i32_679 v1139
  let v1141 : BitVec 32 := Scalar.minsi c256_i32_680 v1140
  let v1805 : BitVec 32 := Scalar.subi v1141 v1138
  let c1_i32_1195 : BitVec 32 := 1#32
  let v1807 : BitVec 32 := Scalar.divsi v1805 c1_i32_1195
  let v1808 : BitVec 32 := Scalar.muli v1807 c1_i32_1195
  let v1809 : BitVec 32 := Scalar.addi v1138 v1808
  let c1_i32_1196 : BitVec 32 := 1#32
  ⟨v1138, v1809, c1_i32_1196⟩
def k3_cond57 (i : grid3.Coords) (v530 : BitVec 32) (v535 : BitVec 32) : BitVec 1 :=
  let c256_i32_680 : BitVec 32 := 256#32
  let c0_i32_679 : BitVec 32 := 0#32
  let c1024_i32_233 : BitVec 32 := 1024#32
  let c0_i32_232 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v536 : BitVec 32 := Scalar.subi v535 v3
  let v537 : BitVec 32 := Scalar.maxsi c0_i32_232 v536
  let v538 : BitVec 32 := Scalar.minsi c1024_i32_233 v537
  let c256_i32_678 : BitVec 32 := 256#32
  let v1139 : BitVec 32 := Scalar.subi v538 c256_i32_678
  let v1140 : BitVec 32 := Scalar.maxsi c0_i32_679 v1139
  let v1141 : BitVec 32 := Scalar.minsi c256_i32_680 v1140
  let c256_i32_677 : BitVec 32 := 256#32
  let c0_i32_676 : BitVec 32 := 0#32
  let c1024_i32_231 : BitVec 32 := 1024#32
  let c0_i32_230 : BitVec 32 := 0#32
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let v1142 : BitVec 1 := Scalar.cmpi .sgt v1141 v1138
  let v1143 : BitVec 32 := Scalar.extui v1142
  let c0_i32_681 : BitVec 32 := 0#32
  let v1144 : BitVec 1 := Scalar.cmpi .ne v1143 c0_i32_681
  v1144

def k3_off451 (i : grid3.Coords) (v530 : BitVec 32) (v535 : BitVec 32) (k3_t113 : Fin (k3_t113_loop i v530 v535).trips) : Fin 2 → Nat :=
  let c256_i32_677 : BitVec 32 := 256#32
  let c0_i32_676 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let c1_i32_1196 : BitVec 32 := 1#32
  let arg13 : BitVec 32 := Scf.iv v1138 c1_i32_1196 k3_t113
  let v1828 : Index := Scalar.indexCast arg13
  let c0_1206 : Index := 0#32
  ![v1828.toNat, 0]
def k3_off452 (i : grid3.Coords) (v530 : BitVec 32) (v535 : BitVec 32) (k3_t113 : Fin (k3_t113_loop i v530 v535).trips) : Fin 2 → Nat :=
  let c256_i32_677 : BitVec 32 := 256#32
  let c0_i32_676 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let c1_i32_1196 : BitVec 32 := 1#32
  let arg13 : BitVec 32 := Scf.iv v1138 c1_i32_1196 k3_t113
  let v1832 : Index := Scalar.indexCast arg13
  let c16_1207 : Index := 16#32
  ![v1832.toNat, 16]
def k3_off453 (i : grid3.Coords) (v530 : BitVec 32) (v535 : BitVec 32) (k3_t113 : Fin (k3_t113_loop i v530 v535).trips) : Fin 2 → Nat :=
  let c256_i32_677 : BitVec 32 := 256#32
  let c0_i32_676 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let c1_i32_1196 : BitVec 32 := 1#32
  let arg13 : BitVec 32 := Scf.iv v1138 c1_i32_1196 k3_t113
  let v1836 : Index := Scalar.indexCast arg13
  let c32_1208 : Index := 32#32
  ![v1836.toNat, 32]
def k3_off454 (i : grid3.Coords) (v530 : BitVec 32) (v535 : BitVec 32) (k3_t113 : Fin (k3_t113_loop i v530 v535).trips) : Fin 2 → Nat :=
  let c256_i32_677 : BitVec 32 := 256#32
  let c0_i32_676 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let c1_i32_1196 : BitVec 32 := 1#32
  let arg13 : BitVec 32 := Scf.iv v1138 c1_i32_1196 k3_t113
  let v1840 : Index := Scalar.indexCast arg13
  let c48_1209 : Index := 48#32
  ![v1840.toNat, 48]
@[reducible] def k3_t114_loop (i : grid3.Coords) (v530 : BitVec 32) (v535 : BitVec 32) : Scf.Loop 32 :=
  let c256_i32_677 : BitVec 32 := 256#32
  let c0_i32_676 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let c256_i32_680 : BitVec 32 := 256#32
  let c0_i32_679 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c256_i32_678 : BitVec 32 := 256#32
  let v1139 : BitVec 32 := Scalar.subi v538 c256_i32_678
  let v1140 : BitVec 32 := Scalar.maxsi c0_i32_679 v1139
  let v1141 : BitVec 32 := Scalar.minsi c256_i32_680 v1140
  let v1805 : BitVec 32 := Scalar.subi v1141 v1138
  let c1_i32_1195 : BitVec 32 := 1#32
  let v1807 : BitVec 32 := Scalar.divsi v1805 c1_i32_1195
  let v1808 : BitVec 32 := Scalar.muli v1807 c1_i32_1195
  let v1809 : BitVec 32 := Scalar.addi v1138 v1808
  let v1806 : BitVec 32 := Scalar.addi v1138 v1805
  let c1_i32_1197 : BitVec 32 := 1#32
  ⟨v1809, v1806, c1_i32_1197⟩
def k3_off455 (i : grid3.Coords) (v530 : BitVec 32) (v535 : BitVec 32) (k3_t114 : Fin (k3_t114_loop i v530 v535).trips) : Fin 2 → Nat :=
  let c256_i32_677 : BitVec 32 := 256#32
  let c0_i32_676 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let c256_i32_680 : BitVec 32 := 256#32
  let c0_i32_679 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c256_i32_678 : BitVec 32 := 256#32
  let v1139 : BitVec 32 := Scalar.subi v538 c256_i32_678
  let v1140 : BitVec 32 := Scalar.maxsi c0_i32_679 v1139
  let v1141 : BitVec 32 := Scalar.minsi c256_i32_680 v1140
  let v1805 : BitVec 32 := Scalar.subi v1141 v1138
  let c1_i32_1195 : BitVec 32 := 1#32
  let v1807 : BitVec 32 := Scalar.divsi v1805 c1_i32_1195
  let v1808 : BitVec 32 := Scalar.muli v1807 c1_i32_1195
  let v1809 : BitVec 32 := Scalar.addi v1138 v1808
  let c1_i32_1197 : BitVec 32 := 1#32
  let arg13 : BitVec 32 := Scf.iv v1809 c1_i32_1197 k3_t114
  let v1828 : Index := Scalar.indexCast arg13
  let c0_1206 : Index := 0#32
  ![v1828.toNat, 0]
def k3_off456 (i : grid3.Coords) (v530 : BitVec 32) (v535 : BitVec 32) (k3_t114 : Fin (k3_t114_loop i v530 v535).trips) : Fin 2 → Nat :=
  let c256_i32_677 : BitVec 32 := 256#32
  let c0_i32_676 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let c256_i32_680 : BitVec 32 := 256#32
  let c0_i32_679 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c256_i32_678 : BitVec 32 := 256#32
  let v1139 : BitVec 32 := Scalar.subi v538 c256_i32_678
  let v1140 : BitVec 32 := Scalar.maxsi c0_i32_679 v1139
  let v1141 : BitVec 32 := Scalar.minsi c256_i32_680 v1140
  let v1805 : BitVec 32 := Scalar.subi v1141 v1138
  let c1_i32_1195 : BitVec 32 := 1#32
  let v1807 : BitVec 32 := Scalar.divsi v1805 c1_i32_1195
  let v1808 : BitVec 32 := Scalar.muli v1807 c1_i32_1195
  let v1809 : BitVec 32 := Scalar.addi v1138 v1808
  let c1_i32_1197 : BitVec 32 := 1#32
  let arg13 : BitVec 32 := Scf.iv v1809 c1_i32_1197 k3_t114
  let v1832 : Index := Scalar.indexCast arg13
  let c16_1207 : Index := 16#32
  ![v1832.toNat, 16]
def k3_off457 (i : grid3.Coords) (v530 : BitVec 32) (v535 : BitVec 32) (k3_t114 : Fin (k3_t114_loop i v530 v535).trips) : Fin 2 → Nat :=
  let c256_i32_677 : BitVec 32 := 256#32
  let c0_i32_676 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let c256_i32_680 : BitVec 32 := 256#32
  let c0_i32_679 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c256_i32_678 : BitVec 32 := 256#32
  let v1139 : BitVec 32 := Scalar.subi v538 c256_i32_678
  let v1140 : BitVec 32 := Scalar.maxsi c0_i32_679 v1139
  let v1141 : BitVec 32 := Scalar.minsi c256_i32_680 v1140
  let v1805 : BitVec 32 := Scalar.subi v1141 v1138
  let c1_i32_1195 : BitVec 32 := 1#32
  let v1807 : BitVec 32 := Scalar.divsi v1805 c1_i32_1195
  let v1808 : BitVec 32 := Scalar.muli v1807 c1_i32_1195
  let v1809 : BitVec 32 := Scalar.addi v1138 v1808
  let c1_i32_1197 : BitVec 32 := 1#32
  let arg13 : BitVec 32 := Scf.iv v1809 c1_i32_1197 k3_t114
  let v1836 : Index := Scalar.indexCast arg13
  let c32_1208 : Index := 32#32
  ![v1836.toNat, 32]
def k3_off458 (i : grid3.Coords) (v530 : BitVec 32) (v535 : BitVec 32) (k3_t114 : Fin (k3_t114_loop i v530 v535).trips) : Fin 2 → Nat :=
  let c256_i32_677 : BitVec 32 := 256#32
  let c0_i32_676 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c256_i32_675 : BitVec 32 := 256#32
  let v1136 : BitVec 32 := Scalar.subi v533 c256_i32_675
  let v1137 : BitVec 32 := Scalar.maxsi c0_i32_676 v1136
  let v1138 : BitVec 32 := Scalar.minsi c256_i32_677 v1137
  let c256_i32_680 : BitVec 32 := 256#32
  let c0_i32_679 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c256_i32_678 : BitVec 32 := 256#32
  let v1139 : BitVec 32 := Scalar.subi v538 c256_i32_678
  let v1140 : BitVec 32 := Scalar.maxsi c0_i32_679 v1139
  let v1141 : BitVec 32 := Scalar.minsi c256_i32_680 v1140
  let v1805 : BitVec 32 := Scalar.subi v1141 v1138
  let c1_i32_1195 : BitVec 32 := 1#32
  let v1807 : BitVec 32 := Scalar.divsi v1805 c1_i32_1195
  let v1808 : BitVec 32 := Scalar.muli v1807 c1_i32_1195
  let v1809 : BitVec 32 := Scalar.addi v1138 v1808
  let c1_i32_1197 : BitVec 32 := 1#32
  let arg13 : BitVec 32 := Scf.iv v1809 c1_i32_1197 k3_t114
  let v1840 : Index := Scalar.indexCast arg13
  let c48_1209 : Index := 48#32
  ![v1840.toNat, 48]
@[reducible] def k3_t115_loop (i : grid3.Coords) (v540 : BitVec 32) (v546 : BitVec 32) : Scf.Loop 32 :=
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let c256_i32_687 : BitVec 32 := 256#32
  let c0_i32_686 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c256_i32_685 : BitVec 32 := 256#32
  let v1148 : BitVec 32 := Scalar.subi v550 c256_i32_685
  let v1149 : BitVec 32 := Scalar.maxsi c0_i32_686 v1148
  let v1150 : BitVec 32 := Scalar.minsi c256_i32_687 v1149
  let v1805 : BitVec 32 := Scalar.subi v1150 v1147
  let c1_i32_1195 : BitVec 32 := 1#32
  let v1807 : BitVec 32 := Scalar.divsi v1805 c1_i32_1195
  let v1808 : BitVec 32 := Scalar.muli v1807 c1_i32_1195
  let v1809 : BitVec 32 := Scalar.addi v1147 v1808
  let c1_i32_1196 : BitVec 32 := 1#32
  ⟨v1147, v1809, c1_i32_1196⟩
def k3_cond58 (i : grid3.Coords) (v540 : BitVec 32) (v546 : BitVec 32) : BitVec 1 :=
  let c256_i32_687 : BitVec 32 := 256#32
  let c0_i32_686 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v548 : BitVec 32 := Scalar.subi v547 v3
  let v549 : BitVec 32 := Scalar.maxsi c0_i32_238 v548
  let v550 : BitVec 32 := Scalar.minsi c1024_i32_239 v549
  let c256_i32_685 : BitVec 32 := 256#32
  let v1148 : BitVec 32 := Scalar.subi v550 c256_i32_685
  let v1149 : BitVec 32 := Scalar.maxsi c0_i32_686 v1148
  let v1150 : BitVec 32 := Scalar.minsi c256_i32_687 v1149
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let v1151 : BitVec 1 := Scalar.cmpi .sgt v1150 v1147
  let v1152 : BitVec 32 := Scalar.extui v1151
  let c0_i32_688 : BitVec 32 := 0#32
  let v1153 : BitVec 1 := Scalar.cmpi .ne v1152 c0_i32_688
  v1153

def k3_off459 (i : grid3.Coords) (v540 : BitVec 32) (v546 : BitVec 32) (k3_t115 : Fin (k3_t115_loop i v540 v546).trips) : Fin 2 → Nat :=
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let c1_i32_1196 : BitVec 32 := 1#32
  let arg13 : BitVec 32 := Scf.iv v1147 c1_i32_1196 k3_t115
  let v1828 : Index := Scalar.indexCast arg13
  let c64 : Index := 64#32
  ![v1828.toNat, 64]
def k3_off460 (i : grid3.Coords) (v540 : BitVec 32) (v546 : BitVec 32) (k3_t115 : Fin (k3_t115_loop i v540 v546).trips) : Fin 2 → Nat :=
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let c1_i32_1196 : BitVec 32 := 1#32
  let arg13 : BitVec 32 := Scf.iv v1147 c1_i32_1196 k3_t115
  let v1832 : Index := Scalar.indexCast arg13
  let c80 : Index := 80#32
  ![v1832.toNat, 80]
def k3_off461 (i : grid3.Coords) (v540 : BitVec 32) (v546 : BitVec 32) (k3_t115 : Fin (k3_t115_loop i v540 v546).trips) : Fin 2 → Nat :=
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let c1_i32_1196 : BitVec 32 := 1#32
  let arg13 : BitVec 32 := Scf.iv v1147 c1_i32_1196 k3_t115
  let v1836 : Index := Scalar.indexCast arg13
  let c96 : Index := 96#32
  ![v1836.toNat, 96]
def k3_off462 (i : grid3.Coords) (v540 : BitVec 32) (v546 : BitVec 32) (k3_t115 : Fin (k3_t115_loop i v540 v546).trips) : Fin 2 → Nat :=
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let c1_i32_1196 : BitVec 32 := 1#32
  let arg13 : BitVec 32 := Scf.iv v1147 c1_i32_1196 k3_t115
  let v1840 : Index := Scalar.indexCast arg13
  let c112 : Index := 112#32
  ![v1840.toNat, 112]
@[reducible] def k3_t116_loop (i : grid3.Coords) (v540 : BitVec 32) (v546 : BitVec 32) : Scf.Loop 32 :=
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let c256_i32_687 : BitVec 32 := 256#32
  let c0_i32_686 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c256_i32_685 : BitVec 32 := 256#32
  let v1148 : BitVec 32 := Scalar.subi v550 c256_i32_685
  let v1149 : BitVec 32 := Scalar.maxsi c0_i32_686 v1148
  let v1150 : BitVec 32 := Scalar.minsi c256_i32_687 v1149
  let v1805 : BitVec 32 := Scalar.subi v1150 v1147
  let c1_i32_1195 : BitVec 32 := 1#32
  let v1807 : BitVec 32 := Scalar.divsi v1805 c1_i32_1195
  let v1808 : BitVec 32 := Scalar.muli v1807 c1_i32_1195
  let v1809 : BitVec 32 := Scalar.addi v1147 v1808
  let v1806 : BitVec 32 := Scalar.addi v1147 v1805
  let c1_i32_1197 : BitVec 32 := 1#32
  ⟨v1809, v1806, c1_i32_1197⟩
def k3_off463 (i : grid3.Coords) (v540 : BitVec 32) (v546 : BitVec 32) (k3_t116 : Fin (k3_t116_loop i v540 v546).trips) : Fin 2 → Nat :=
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let c256_i32_687 : BitVec 32 := 256#32
  let c0_i32_686 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c256_i32_685 : BitVec 32 := 256#32
  let v1148 : BitVec 32 := Scalar.subi v550 c256_i32_685
  let v1149 : BitVec 32 := Scalar.maxsi c0_i32_686 v1148
  let v1150 : BitVec 32 := Scalar.minsi c256_i32_687 v1149
  let v1805 : BitVec 32 := Scalar.subi v1150 v1147
  let c1_i32_1195 : BitVec 32 := 1#32
  let v1807 : BitVec 32 := Scalar.divsi v1805 c1_i32_1195
  let v1808 : BitVec 32 := Scalar.muli v1807 c1_i32_1195
  let v1809 : BitVec 32 := Scalar.addi v1147 v1808
  let c1_i32_1197 : BitVec 32 := 1#32
  let arg13 : BitVec 32 := Scf.iv v1809 c1_i32_1197 k3_t116
  let v1828 : Index := Scalar.indexCast arg13
  let c64 : Index := 64#32
  ![v1828.toNat, 64]
def k3_off464 (i : grid3.Coords) (v540 : BitVec 32) (v546 : BitVec 32) (k3_t116 : Fin (k3_t116_loop i v540 v546).trips) : Fin 2 → Nat :=
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let c256_i32_687 : BitVec 32 := 256#32
  let c0_i32_686 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c256_i32_685 : BitVec 32 := 256#32
  let v1148 : BitVec 32 := Scalar.subi v550 c256_i32_685
  let v1149 : BitVec 32 := Scalar.maxsi c0_i32_686 v1148
  let v1150 : BitVec 32 := Scalar.minsi c256_i32_687 v1149
  let v1805 : BitVec 32 := Scalar.subi v1150 v1147
  let c1_i32_1195 : BitVec 32 := 1#32
  let v1807 : BitVec 32 := Scalar.divsi v1805 c1_i32_1195
  let v1808 : BitVec 32 := Scalar.muli v1807 c1_i32_1195
  let v1809 : BitVec 32 := Scalar.addi v1147 v1808
  let c1_i32_1197 : BitVec 32 := 1#32
  let arg13 : BitVec 32 := Scf.iv v1809 c1_i32_1197 k3_t116
  let v1832 : Index := Scalar.indexCast arg13
  let c80 : Index := 80#32
  ![v1832.toNat, 80]
def k3_off465 (i : grid3.Coords) (v540 : BitVec 32) (v546 : BitVec 32) (k3_t116 : Fin (k3_t116_loop i v540 v546).trips) : Fin 2 → Nat :=
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let c256_i32_687 : BitVec 32 := 256#32
  let c0_i32_686 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c256_i32_685 : BitVec 32 := 256#32
  let v1148 : BitVec 32 := Scalar.subi v550 c256_i32_685
  let v1149 : BitVec 32 := Scalar.maxsi c0_i32_686 v1148
  let v1150 : BitVec 32 := Scalar.minsi c256_i32_687 v1149
  let v1805 : BitVec 32 := Scalar.subi v1150 v1147
  let c1_i32_1195 : BitVec 32 := 1#32
  let v1807 : BitVec 32 := Scalar.divsi v1805 c1_i32_1195
  let v1808 : BitVec 32 := Scalar.muli v1807 c1_i32_1195
  let v1809 : BitVec 32 := Scalar.addi v1147 v1808
  let c1_i32_1197 : BitVec 32 := 1#32
  let arg13 : BitVec 32 := Scf.iv v1809 c1_i32_1197 k3_t116
  let v1836 : Index := Scalar.indexCast arg13
  let c96 : Index := 96#32
  ![v1836.toNat, 96]
def k3_off466 (i : grid3.Coords) (v540 : BitVec 32) (v546 : BitVec 32) (k3_t116 : Fin (k3_t116_loop i v540 v546).trips) : Fin 2 → Nat :=
  let c256_i32_684 : BitVec 32 := 256#32
  let c0_i32_683 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c256_i32_682 : BitVec 32 := 256#32
  let v1145 : BitVec 32 := Scalar.subi v544 c256_i32_682
  let v1146 : BitVec 32 := Scalar.maxsi c0_i32_683 v1145
  let v1147 : BitVec 32 := Scalar.minsi c256_i32_684 v1146
  let c256_i32_687 : BitVec 32 := 256#32
  let c0_i32_686 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c256_i32_685 : BitVec 32 := 256#32
  let v1148 : BitVec 32 := Scalar.subi v550 c256_i32_685
  let v1149 : BitVec 32 := Scalar.maxsi c0_i32_686 v1148
  let v1150 : BitVec 32 := Scalar.minsi c256_i32_687 v1149
  let v1805 : BitVec 32 := Scalar.subi v1150 v1147
  let c1_i32_1195 : BitVec 32 := 1#32
  let v1807 : BitVec 32 := Scalar.divsi v1805 c1_i32_1195
  let v1808 : BitVec 32 := Scalar.muli v1807 c1_i32_1195
  let v1809 : BitVec 32 := Scalar.addi v1147 v1808
  let c1_i32_1197 : BitVec 32 := 1#32
  let arg13 : BitVec 32 := Scf.iv v1809 c1_i32_1197 k3_t116
  let v1840 : Index := Scalar.indexCast arg13
  let c112 : Index := 112#32
  ![v1840.toNat, 112]
@[reducible] def k3_t117_loop (i : grid3.Coords) (v552 : BitVec 32) (v557 : BitVec 32) : Scf.Loop 32 :=
  let c256_i32_691 : BitVec 32 := 256#32
  let c0_i32_690 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let c256_i32_694 : BitVec 32 := 256#32
  let c0_i32_693 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c256_i32_692 : BitVec 32 := 256#32
  let v1157 : BitVec 32 := Scalar.subi v560 c256_i32_692
  let v1158 : BitVec 32 := Scalar.maxsi c0_i32_693 v1157
  let v1159 : BitVec 32 := Scalar.minsi c256_i32_694 v1158
  let v1805 : BitVec 32 := Scalar.subi v1159 v1156
  let c1_i32_1195 : BitVec 32 := 1#32
  let v1807 : BitVec 32 := Scalar.divsi v1805 c1_i32_1195
  let v1808 : BitVec 32 := Scalar.muli v1807 c1_i32_1195
  let v1809 : BitVec 32 := Scalar.addi v1156 v1808
  let c1_i32_1196 : BitVec 32 := 1#32
  ⟨v1156, v1809, c1_i32_1196⟩
def k3_cond59 (i : grid3.Coords) (v552 : BitVec 32) (v557 : BitVec 32) : BitVec 1 :=
  let c256_i32_694 : BitVec 32 := 256#32
  let c0_i32_693 : BitVec 32 := 0#32
  let c1024_i32_243 : BitVec 32 := 1024#32
  let c0_i32_242 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v558 : BitVec 32 := Scalar.subi v557 v3
  let v559 : BitVec 32 := Scalar.maxsi c0_i32_242 v558
  let v560 : BitVec 32 := Scalar.minsi c1024_i32_243 v559
  let c256_i32_692 : BitVec 32 := 256#32
  let v1157 : BitVec 32 := Scalar.subi v560 c256_i32_692
  let v1158 : BitVec 32 := Scalar.maxsi c0_i32_693 v1157
  let v1159 : BitVec 32 := Scalar.minsi c256_i32_694 v1158
  let c256_i32_691 : BitVec 32 := 256#32
  let c0_i32_690 : BitVec 32 := 0#32
  let c1024_i32_241 : BitVec 32 := 1024#32
  let c0_i32_240 : BitVec 32 := 0#32
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let v1160 : BitVec 1 := Scalar.cmpi .sgt v1159 v1156
  let v1161 : BitVec 32 := Scalar.extui v1160
  let c0_i32_695 : BitVec 32 := 0#32
  let v1162 : BitVec 1 := Scalar.cmpi .ne v1161 c0_i32_695
  v1162

def k3_off467 (i : grid3.Coords) (v552 : BitVec 32) (v557 : BitVec 32) (k3_t117 : Fin (k3_t117_loop i v552 v557).trips) : Fin 2 → Nat :=
  let c256_i32_691 : BitVec 32 := 256#32
  let c0_i32_690 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let c1_i32_1196 : BitVec 32 := 1#32
  let arg13 : BitVec 32 := Scf.iv v1156 c1_i32_1196 k3_t117
  let v1828 : Index := Scalar.indexCast arg13
  let c0_1206 : Index := 0#32
  ![v1828.toNat, 0]
def k3_off468 (i : grid3.Coords) (v552 : BitVec 32) (v557 : BitVec 32) (k3_t117 : Fin (k3_t117_loop i v552 v557).trips) : Fin 2 → Nat :=
  let c256_i32_691 : BitVec 32 := 256#32
  let c0_i32_690 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let c1_i32_1196 : BitVec 32 := 1#32
  let arg13 : BitVec 32 := Scf.iv v1156 c1_i32_1196 k3_t117
  let v1832 : Index := Scalar.indexCast arg13
  let c16_1207 : Index := 16#32
  ![v1832.toNat, 16]
def k3_off469 (i : grid3.Coords) (v552 : BitVec 32) (v557 : BitVec 32) (k3_t117 : Fin (k3_t117_loop i v552 v557).trips) : Fin 2 → Nat :=
  let c256_i32_691 : BitVec 32 := 256#32
  let c0_i32_690 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let c1_i32_1196 : BitVec 32 := 1#32
  let arg13 : BitVec 32 := Scf.iv v1156 c1_i32_1196 k3_t117
  let v1836 : Index := Scalar.indexCast arg13
  let c32_1208 : Index := 32#32
  ![v1836.toNat, 32]
def k3_off470 (i : grid3.Coords) (v552 : BitVec 32) (v557 : BitVec 32) (k3_t117 : Fin (k3_t117_loop i v552 v557).trips) : Fin 2 → Nat :=
  let c256_i32_691 : BitVec 32 := 256#32
  let c0_i32_690 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let c1_i32_1196 : BitVec 32 := 1#32
  let arg13 : BitVec 32 := Scf.iv v1156 c1_i32_1196 k3_t117
  let v1840 : Index := Scalar.indexCast arg13
  let c48_1209 : Index := 48#32
  ![v1840.toNat, 48]
@[reducible] def k3_t118_loop (i : grid3.Coords) (v552 : BitVec 32) (v557 : BitVec 32) : Scf.Loop 32 :=
  let c256_i32_691 : BitVec 32 := 256#32
  let c0_i32_690 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let c256_i32_694 : BitVec 32 := 256#32
  let c0_i32_693 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c256_i32_692 : BitVec 32 := 256#32
  let v1157 : BitVec 32 := Scalar.subi v560 c256_i32_692
  let v1158 : BitVec 32 := Scalar.maxsi c0_i32_693 v1157
  let v1159 : BitVec 32 := Scalar.minsi c256_i32_694 v1158
  let v1805 : BitVec 32 := Scalar.subi v1159 v1156
  let c1_i32_1195 : BitVec 32 := 1#32
  let v1807 : BitVec 32 := Scalar.divsi v1805 c1_i32_1195
  let v1808 : BitVec 32 := Scalar.muli v1807 c1_i32_1195
  let v1809 : BitVec 32 := Scalar.addi v1156 v1808
  let v1806 : BitVec 32 := Scalar.addi v1156 v1805
  let c1_i32_1197 : BitVec 32 := 1#32
  ⟨v1809, v1806, c1_i32_1197⟩
def k3_off471 (i : grid3.Coords) (v552 : BitVec 32) (v557 : BitVec 32) (k3_t118 : Fin (k3_t118_loop i v552 v557).trips) : Fin 2 → Nat :=
  let c256_i32_691 : BitVec 32 := 256#32
  let c0_i32_690 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let c256_i32_694 : BitVec 32 := 256#32
  let c0_i32_693 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c256_i32_692 : BitVec 32 := 256#32
  let v1157 : BitVec 32 := Scalar.subi v560 c256_i32_692
  let v1158 : BitVec 32 := Scalar.maxsi c0_i32_693 v1157
  let v1159 : BitVec 32 := Scalar.minsi c256_i32_694 v1158
  let v1805 : BitVec 32 := Scalar.subi v1159 v1156
  let c1_i32_1195 : BitVec 32 := 1#32
  let v1807 : BitVec 32 := Scalar.divsi v1805 c1_i32_1195
  let v1808 : BitVec 32 := Scalar.muli v1807 c1_i32_1195
  let v1809 : BitVec 32 := Scalar.addi v1156 v1808
  let c1_i32_1197 : BitVec 32 := 1#32
  let arg13 : BitVec 32 := Scf.iv v1809 c1_i32_1197 k3_t118
  let v1828 : Index := Scalar.indexCast arg13
  let c0_1206 : Index := 0#32
  ![v1828.toNat, 0]
def k3_off472 (i : grid3.Coords) (v552 : BitVec 32) (v557 : BitVec 32) (k3_t118 : Fin (k3_t118_loop i v552 v557).trips) : Fin 2 → Nat :=
  let c256_i32_691 : BitVec 32 := 256#32
  let c0_i32_690 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let c256_i32_694 : BitVec 32 := 256#32
  let c0_i32_693 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c256_i32_692 : BitVec 32 := 256#32
  let v1157 : BitVec 32 := Scalar.subi v560 c256_i32_692
  let v1158 : BitVec 32 := Scalar.maxsi c0_i32_693 v1157
  let v1159 : BitVec 32 := Scalar.minsi c256_i32_694 v1158
  let v1805 : BitVec 32 := Scalar.subi v1159 v1156
  let c1_i32_1195 : BitVec 32 := 1#32
  let v1807 : BitVec 32 := Scalar.divsi v1805 c1_i32_1195
  let v1808 : BitVec 32 := Scalar.muli v1807 c1_i32_1195
  let v1809 : BitVec 32 := Scalar.addi v1156 v1808
  let c1_i32_1197 : BitVec 32 := 1#32
  let arg13 : BitVec 32 := Scf.iv v1809 c1_i32_1197 k3_t118
  let v1832 : Index := Scalar.indexCast arg13
  let c16_1207 : Index := 16#32
  ![v1832.toNat, 16]
def k3_off473 (i : grid3.Coords) (v552 : BitVec 32) (v557 : BitVec 32) (k3_t118 : Fin (k3_t118_loop i v552 v557).trips) : Fin 2 → Nat :=
  let c256_i32_691 : BitVec 32 := 256#32
  let c0_i32_690 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let c256_i32_694 : BitVec 32 := 256#32
  let c0_i32_693 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c256_i32_692 : BitVec 32 := 256#32
  let v1157 : BitVec 32 := Scalar.subi v560 c256_i32_692
  let v1158 : BitVec 32 := Scalar.maxsi c0_i32_693 v1157
  let v1159 : BitVec 32 := Scalar.minsi c256_i32_694 v1158
  let v1805 : BitVec 32 := Scalar.subi v1159 v1156
  let c1_i32_1195 : BitVec 32 := 1#32
  let v1807 : BitVec 32 := Scalar.divsi v1805 c1_i32_1195
  let v1808 : BitVec 32 := Scalar.muli v1807 c1_i32_1195
  let v1809 : BitVec 32 := Scalar.addi v1156 v1808
  let c1_i32_1197 : BitVec 32 := 1#32
  let arg13 : BitVec 32 := Scf.iv v1809 c1_i32_1197 k3_t118
  let v1836 : Index := Scalar.indexCast arg13
  let c32_1208 : Index := 32#32
  ![v1836.toNat, 32]
def k3_off474 (i : grid3.Coords) (v552 : BitVec 32) (v557 : BitVec 32) (k3_t118 : Fin (k3_t118_loop i v552 v557).trips) : Fin 2 → Nat :=
  let c256_i32_691 : BitVec 32 := 256#32
  let c0_i32_690 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c256_i32_689 : BitVec 32 := 256#32
  let v1154 : BitVec 32 := Scalar.subi v555 c256_i32_689
  let v1155 : BitVec 32 := Scalar.maxsi c0_i32_690 v1154
  let v1156 : BitVec 32 := Scalar.minsi c256_i32_691 v1155
  let c256_i32_694 : BitVec 32 := 256#32
  let c0_i32_693 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c256_i32_692 : BitVec 32 := 256#32
  let v1157 : BitVec 32 := Scalar.subi v560 c256_i32_692
  let v1158 : BitVec 32 := Scalar.maxsi c0_i32_693 v1157
  let v1159 : BitVec 32 := Scalar.minsi c256_i32_694 v1158
  let v1805 : BitVec 32 := Scalar.subi v1159 v1156
  let c1_i32_1195 : BitVec 32 := 1#32
  let v1807 : BitVec 32 := Scalar.divsi v1805 c1_i32_1195
  let v1808 : BitVec 32 := Scalar.muli v1807 c1_i32_1195
  let v1809 : BitVec 32 := Scalar.addi v1156 v1808
  let c1_i32_1197 : BitVec 32 := 1#32
  let arg13 : BitVec 32 := Scf.iv v1809 c1_i32_1197 k3_t118
  let v1840 : Index := Scalar.indexCast arg13
  let c48_1209 : Index := 48#32
  ![v1840.toNat, 48]
@[reducible] def k3_t119_loop (i : grid3.Coords) (v562 : BitVec 32) (v568 : BitVec 32) : Scf.Loop 32 :=
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let c256_i32_701 : BitVec 32 := 256#32
  let c0_i32_700 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c256_i32_699 : BitVec 32 := 256#32
  let v1166 : BitVec 32 := Scalar.subi v572 c256_i32_699
  let v1167 : BitVec 32 := Scalar.maxsi c0_i32_700 v1166
  let v1168 : BitVec 32 := Scalar.minsi c256_i32_701 v1167
  let v1805 : BitVec 32 := Scalar.subi v1168 v1165
  let c1_i32_1195 : BitVec 32 := 1#32
  let v1807 : BitVec 32 := Scalar.divsi v1805 c1_i32_1195
  let v1808 : BitVec 32 := Scalar.muli v1807 c1_i32_1195
  let v1809 : BitVec 32 := Scalar.addi v1165 v1808
  let c1_i32_1196 : BitVec 32 := 1#32
  ⟨v1165, v1809, c1_i32_1196⟩
def k3_cond60 (i : grid3.Coords) (v562 : BitVec 32) (v568 : BitVec 32) : BitVec 1 :=
  let c256_i32_701 : BitVec 32 := 256#32
  let c0_i32_700 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v570 : BitVec 32 := Scalar.subi v569 v3
  let v571 : BitVec 32 := Scalar.maxsi c0_i32_248 v570
  let v572 : BitVec 32 := Scalar.minsi c1024_i32_249 v571
  let c256_i32_699 : BitVec 32 := 256#32
  let v1166 : BitVec 32 := Scalar.subi v572 c256_i32_699
  let v1167 : BitVec 32 := Scalar.maxsi c0_i32_700 v1166
  let v1168 : BitVec 32 := Scalar.minsi c256_i32_701 v1167
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let v1169 : BitVec 1 := Scalar.cmpi .sgt v1168 v1165
  let v1170 : BitVec 32 := Scalar.extui v1169
  let c0_i32_702 : BitVec 32 := 0#32
  let v1171 : BitVec 1 := Scalar.cmpi .ne v1170 c0_i32_702
  v1171

def k3_off475 (i : grid3.Coords) (v562 : BitVec 32) (v568 : BitVec 32) (k3_t119 : Fin (k3_t119_loop i v562 v568).trips) : Fin 2 → Nat :=
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let c1_i32_1196 : BitVec 32 := 1#32
  let arg13 : BitVec 32 := Scf.iv v1165 c1_i32_1196 k3_t119
  let v1828 : Index := Scalar.indexCast arg13
  let c64 : Index := 64#32
  ![v1828.toNat, 64]
def k3_off476 (i : grid3.Coords) (v562 : BitVec 32) (v568 : BitVec 32) (k3_t119 : Fin (k3_t119_loop i v562 v568).trips) : Fin 2 → Nat :=
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let c1_i32_1196 : BitVec 32 := 1#32
  let arg13 : BitVec 32 := Scf.iv v1165 c1_i32_1196 k3_t119
  let v1832 : Index := Scalar.indexCast arg13
  let c80 : Index := 80#32
  ![v1832.toNat, 80]
def k3_off477 (i : grid3.Coords) (v562 : BitVec 32) (v568 : BitVec 32) (k3_t119 : Fin (k3_t119_loop i v562 v568).trips) : Fin 2 → Nat :=
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let c1_i32_1196 : BitVec 32 := 1#32
  let arg13 : BitVec 32 := Scf.iv v1165 c1_i32_1196 k3_t119
  let v1836 : Index := Scalar.indexCast arg13
  let c96 : Index := 96#32
  ![v1836.toNat, 96]
def k3_off478 (i : grid3.Coords) (v562 : BitVec 32) (v568 : BitVec 32) (k3_t119 : Fin (k3_t119_loop i v562 v568).trips) : Fin 2 → Nat :=
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let c1_i32_1196 : BitVec 32 := 1#32
  let arg13 : BitVec 32 := Scf.iv v1165 c1_i32_1196 k3_t119
  let v1840 : Index := Scalar.indexCast arg13
  let c112 : Index := 112#32
  ![v1840.toNat, 112]
@[reducible] def k3_t120_loop (i : grid3.Coords) (v562 : BitVec 32) (v568 : BitVec 32) : Scf.Loop 32 :=
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let c256_i32_701 : BitVec 32 := 256#32
  let c0_i32_700 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c256_i32_699 : BitVec 32 := 256#32
  let v1166 : BitVec 32 := Scalar.subi v572 c256_i32_699
  let v1167 : BitVec 32 := Scalar.maxsi c0_i32_700 v1166
  let v1168 : BitVec 32 := Scalar.minsi c256_i32_701 v1167
  let v1805 : BitVec 32 := Scalar.subi v1168 v1165
  let c1_i32_1195 : BitVec 32 := 1#32
  let v1807 : BitVec 32 := Scalar.divsi v1805 c1_i32_1195
  let v1808 : BitVec 32 := Scalar.muli v1807 c1_i32_1195
  let v1809 : BitVec 32 := Scalar.addi v1165 v1808
  let v1806 : BitVec 32 := Scalar.addi v1165 v1805
  let c1_i32_1197 : BitVec 32 := 1#32
  ⟨v1809, v1806, c1_i32_1197⟩
def k3_off479 (i : grid3.Coords) (v562 : BitVec 32) (v568 : BitVec 32) (k3_t120 : Fin (k3_t120_loop i v562 v568).trips) : Fin 2 → Nat :=
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let c256_i32_701 : BitVec 32 := 256#32
  let c0_i32_700 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c256_i32_699 : BitVec 32 := 256#32
  let v1166 : BitVec 32 := Scalar.subi v572 c256_i32_699
  let v1167 : BitVec 32 := Scalar.maxsi c0_i32_700 v1166
  let v1168 : BitVec 32 := Scalar.minsi c256_i32_701 v1167
  let v1805 : BitVec 32 := Scalar.subi v1168 v1165
  let c1_i32_1195 : BitVec 32 := 1#32
  let v1807 : BitVec 32 := Scalar.divsi v1805 c1_i32_1195
  let v1808 : BitVec 32 := Scalar.muli v1807 c1_i32_1195
  let v1809 : BitVec 32 := Scalar.addi v1165 v1808
  let c1_i32_1197 : BitVec 32 := 1#32
  let arg13 : BitVec 32 := Scf.iv v1809 c1_i32_1197 k3_t120
  let v1828 : Index := Scalar.indexCast arg13
  let c64 : Index := 64#32
  ![v1828.toNat, 64]
def k3_off480 (i : grid3.Coords) (v562 : BitVec 32) (v568 : BitVec 32) (k3_t120 : Fin (k3_t120_loop i v562 v568).trips) : Fin 2 → Nat :=
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let c256_i32_701 : BitVec 32 := 256#32
  let c0_i32_700 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c256_i32_699 : BitVec 32 := 256#32
  let v1166 : BitVec 32 := Scalar.subi v572 c256_i32_699
  let v1167 : BitVec 32 := Scalar.maxsi c0_i32_700 v1166
  let v1168 : BitVec 32 := Scalar.minsi c256_i32_701 v1167
  let v1805 : BitVec 32 := Scalar.subi v1168 v1165
  let c1_i32_1195 : BitVec 32 := 1#32
  let v1807 : BitVec 32 := Scalar.divsi v1805 c1_i32_1195
  let v1808 : BitVec 32 := Scalar.muli v1807 c1_i32_1195
  let v1809 : BitVec 32 := Scalar.addi v1165 v1808
  let c1_i32_1197 : BitVec 32 := 1#32
  let arg13 : BitVec 32 := Scf.iv v1809 c1_i32_1197 k3_t120
  let v1832 : Index := Scalar.indexCast arg13
  let c80 : Index := 80#32
  ![v1832.toNat, 80]
def k3_off481 (i : grid3.Coords) (v562 : BitVec 32) (v568 : BitVec 32) (k3_t120 : Fin (k3_t120_loop i v562 v568).trips) : Fin 2 → Nat :=
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let c256_i32_701 : BitVec 32 := 256#32
  let c0_i32_700 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c256_i32_699 : BitVec 32 := 256#32
  let v1166 : BitVec 32 := Scalar.subi v572 c256_i32_699
  let v1167 : BitVec 32 := Scalar.maxsi c0_i32_700 v1166
  let v1168 : BitVec 32 := Scalar.minsi c256_i32_701 v1167
  let v1805 : BitVec 32 := Scalar.subi v1168 v1165
  let c1_i32_1195 : BitVec 32 := 1#32
  let v1807 : BitVec 32 := Scalar.divsi v1805 c1_i32_1195
  let v1808 : BitVec 32 := Scalar.muli v1807 c1_i32_1195
  let v1809 : BitVec 32 := Scalar.addi v1165 v1808
  let c1_i32_1197 : BitVec 32 := 1#32
  let arg13 : BitVec 32 := Scf.iv v1809 c1_i32_1197 k3_t120
  let v1836 : Index := Scalar.indexCast arg13
  let c96 : Index := 96#32
  ![v1836.toNat, 96]
def k3_off482 (i : grid3.Coords) (v562 : BitVec 32) (v568 : BitVec 32) (k3_t120 : Fin (k3_t120_loop i v562 v568).trips) : Fin 2 → Nat :=
  let c256_i32_698 : BitVec 32 := 256#32
  let c0_i32_697 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c256_i32_696 : BitVec 32 := 256#32
  let v1163 : BitVec 32 := Scalar.subi v566 c256_i32_696
  let v1164 : BitVec 32 := Scalar.maxsi c0_i32_697 v1163
  let v1165 : BitVec 32 := Scalar.minsi c256_i32_698 v1164
  let c256_i32_701 : BitVec 32 := 256#32
  let c0_i32_700 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c256_i32_699 : BitVec 32 := 256#32
  let v1166 : BitVec 32 := Scalar.subi v572 c256_i32_699
  let v1167 : BitVec 32 := Scalar.maxsi c0_i32_700 v1166
  let v1168 : BitVec 32 := Scalar.minsi c256_i32_701 v1167
  let v1805 : BitVec 32 := Scalar.subi v1168 v1165
  let c1_i32_1195 : BitVec 32 := 1#32
  let v1807 : BitVec 32 := Scalar.divsi v1805 c1_i32_1195
  let v1808 : BitVec 32 := Scalar.muli v1807 c1_i32_1195
  let v1809 : BitVec 32 := Scalar.addi v1165 v1808
  let c1_i32_1197 : BitVec 32 := 1#32
  let arg13 : BitVec 32 := Scf.iv v1809 c1_i32_1197 k3_t120
  let v1840 : Index := Scalar.indexCast arg13
  let c112 : Index := 112#32
  ![v1840.toNat, 112]
@[reducible] def k3_t121_loop (i : grid3.Coords) (v574 : BitVec 32) (v579 : BitVec 32) : Scf.Loop 32 :=
  let c256_i32_705 : BitVec 32 := 256#32
  let c0_i32_704 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let c256_i32_708 : BitVec 32 := 256#32
  let c0_i32_707 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c256_i32_706 : BitVec 32 := 256#32
  let v1175 : BitVec 32 := Scalar.subi v582 c256_i32_706
  let v1176 : BitVec 32 := Scalar.maxsi c0_i32_707 v1175
  let v1177 : BitVec 32 := Scalar.minsi c256_i32_708 v1176
  let v1805 : BitVec 32 := Scalar.subi v1177 v1174
  let c1_i32_1195 : BitVec 32 := 1#32
  let v1807 : BitVec 32 := Scalar.divsi v1805 c1_i32_1195
  let v1808 : BitVec 32 := Scalar.muli v1807 c1_i32_1195
  let v1809 : BitVec 32 := Scalar.addi v1174 v1808
  let c1_i32_1196 : BitVec 32 := 1#32
  ⟨v1174, v1809, c1_i32_1196⟩
def k3_cond61 (i : grid3.Coords) (v574 : BitVec 32) (v579 : BitVec 32) : BitVec 1 :=
  let c256_i32_708 : BitVec 32 := 256#32
  let c0_i32_707 : BitVec 32 := 0#32
  let c1024_i32_253 : BitVec 32 := 1024#32
  let c0_i32_252 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v580 : BitVec 32 := Scalar.subi v579 v3
  let v581 : BitVec 32 := Scalar.maxsi c0_i32_252 v580
  let v582 : BitVec 32 := Scalar.minsi c1024_i32_253 v581
  let c256_i32_706 : BitVec 32 := 256#32
  let v1175 : BitVec 32 := Scalar.subi v582 c256_i32_706
  let v1176 : BitVec 32 := Scalar.maxsi c0_i32_707 v1175
  let v1177 : BitVec 32 := Scalar.minsi c256_i32_708 v1176
  let c256_i32_705 : BitVec 32 := 256#32
  let c0_i32_704 : BitVec 32 := 0#32
  let c1024_i32_251 : BitVec 32 := 1024#32
  let c0_i32_250 : BitVec 32 := 0#32
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let v1178 : BitVec 1 := Scalar.cmpi .sgt v1177 v1174
  let v1179 : BitVec 32 := Scalar.extui v1178
  let c0_i32_709 : BitVec 32 := 0#32
  let v1180 : BitVec 1 := Scalar.cmpi .ne v1179 c0_i32_709
  v1180

def k3_off483 (i : grid3.Coords) (v574 : BitVec 32) (v579 : BitVec 32) (k3_t121 : Fin (k3_t121_loop i v574 v579).trips) : Fin 2 → Nat :=
  let c256_i32_705 : BitVec 32 := 256#32
  let c0_i32_704 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let c1_i32_1196 : BitVec 32 := 1#32
  let arg13 : BitVec 32 := Scf.iv v1174 c1_i32_1196 k3_t121
  let v1828 : Index := Scalar.indexCast arg13
  let c0_1206 : Index := 0#32
  ![v1828.toNat, 0]
def k3_off484 (i : grid3.Coords) (v574 : BitVec 32) (v579 : BitVec 32) (k3_t121 : Fin (k3_t121_loop i v574 v579).trips) : Fin 2 → Nat :=
  let c256_i32_705 : BitVec 32 := 256#32
  let c0_i32_704 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let c1_i32_1196 : BitVec 32 := 1#32
  let arg13 : BitVec 32 := Scf.iv v1174 c1_i32_1196 k3_t121
  let v1832 : Index := Scalar.indexCast arg13
  let c16_1207 : Index := 16#32
  ![v1832.toNat, 16]
def k3_off485 (i : grid3.Coords) (v574 : BitVec 32) (v579 : BitVec 32) (k3_t121 : Fin (k3_t121_loop i v574 v579).trips) : Fin 2 → Nat :=
  let c256_i32_705 : BitVec 32 := 256#32
  let c0_i32_704 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let c1_i32_1196 : BitVec 32 := 1#32
  let arg13 : BitVec 32 := Scf.iv v1174 c1_i32_1196 k3_t121
  let v1836 : Index := Scalar.indexCast arg13
  let c32_1208 : Index := 32#32
  ![v1836.toNat, 32]
def k3_off486 (i : grid3.Coords) (v574 : BitVec 32) (v579 : BitVec 32) (k3_t121 : Fin (k3_t121_loop i v574 v579).trips) : Fin 2 → Nat :=
  let c256_i32_705 : BitVec 32 := 256#32
  let c0_i32_704 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let c1_i32_1196 : BitVec 32 := 1#32
  let arg13 : BitVec 32 := Scf.iv v1174 c1_i32_1196 k3_t121
  let v1840 : Index := Scalar.indexCast arg13
  let c48_1209 : Index := 48#32
  ![v1840.toNat, 48]
@[reducible] def k3_t122_loop (i : grid3.Coords) (v574 : BitVec 32) (v579 : BitVec 32) : Scf.Loop 32 :=
  let c256_i32_705 : BitVec 32 := 256#32
  let c0_i32_704 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let c256_i32_708 : BitVec 32 := 256#32
  let c0_i32_707 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c256_i32_706 : BitVec 32 := 256#32
  let v1175 : BitVec 32 := Scalar.subi v582 c256_i32_706
  let v1176 : BitVec 32 := Scalar.maxsi c0_i32_707 v1175
  let v1177 : BitVec 32 := Scalar.minsi c256_i32_708 v1176
  let v1805 : BitVec 32 := Scalar.subi v1177 v1174
  let c1_i32_1195 : BitVec 32 := 1#32
  let v1807 : BitVec 32 := Scalar.divsi v1805 c1_i32_1195
  let v1808 : BitVec 32 := Scalar.muli v1807 c1_i32_1195
  let v1809 : BitVec 32 := Scalar.addi v1174 v1808
  let v1806 : BitVec 32 := Scalar.addi v1174 v1805
  let c1_i32_1197 : BitVec 32 := 1#32
  ⟨v1809, v1806, c1_i32_1197⟩
def k3_off487 (i : grid3.Coords) (v574 : BitVec 32) (v579 : BitVec 32) (k3_t122 : Fin (k3_t122_loop i v574 v579).trips) : Fin 2 → Nat :=
  let c256_i32_705 : BitVec 32 := 256#32
  let c0_i32_704 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let c256_i32_708 : BitVec 32 := 256#32
  let c0_i32_707 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c256_i32_706 : BitVec 32 := 256#32
  let v1175 : BitVec 32 := Scalar.subi v582 c256_i32_706
  let v1176 : BitVec 32 := Scalar.maxsi c0_i32_707 v1175
  let v1177 : BitVec 32 := Scalar.minsi c256_i32_708 v1176
  let v1805 : BitVec 32 := Scalar.subi v1177 v1174
  let c1_i32_1195 : BitVec 32 := 1#32
  let v1807 : BitVec 32 := Scalar.divsi v1805 c1_i32_1195
  let v1808 : BitVec 32 := Scalar.muli v1807 c1_i32_1195
  let v1809 : BitVec 32 := Scalar.addi v1174 v1808
  let c1_i32_1197 : BitVec 32 := 1#32
  let arg13 : BitVec 32 := Scf.iv v1809 c1_i32_1197 k3_t122
  let v1828 : Index := Scalar.indexCast arg13
  let c0_1206 : Index := 0#32
  ![v1828.toNat, 0]
def k3_off488 (i : grid3.Coords) (v574 : BitVec 32) (v579 : BitVec 32) (k3_t122 : Fin (k3_t122_loop i v574 v579).trips) : Fin 2 → Nat :=
  let c256_i32_705 : BitVec 32 := 256#32
  let c0_i32_704 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let c256_i32_708 : BitVec 32 := 256#32
  let c0_i32_707 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c256_i32_706 : BitVec 32 := 256#32
  let v1175 : BitVec 32 := Scalar.subi v582 c256_i32_706
  let v1176 : BitVec 32 := Scalar.maxsi c0_i32_707 v1175
  let v1177 : BitVec 32 := Scalar.minsi c256_i32_708 v1176
  let v1805 : BitVec 32 := Scalar.subi v1177 v1174
  let c1_i32_1195 : BitVec 32 := 1#32
  let v1807 : BitVec 32 := Scalar.divsi v1805 c1_i32_1195
  let v1808 : BitVec 32 := Scalar.muli v1807 c1_i32_1195
  let v1809 : BitVec 32 := Scalar.addi v1174 v1808
  let c1_i32_1197 : BitVec 32 := 1#32
  let arg13 : BitVec 32 := Scf.iv v1809 c1_i32_1197 k3_t122
  let v1832 : Index := Scalar.indexCast arg13
  let c16_1207 : Index := 16#32
  ![v1832.toNat, 16]
def k3_off489 (i : grid3.Coords) (v574 : BitVec 32) (v579 : BitVec 32) (k3_t122 : Fin (k3_t122_loop i v574 v579).trips) : Fin 2 → Nat :=
  let c256_i32_705 : BitVec 32 := 256#32
  let c0_i32_704 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let c256_i32_708 : BitVec 32 := 256#32
  let c0_i32_707 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c256_i32_706 : BitVec 32 := 256#32
  let v1175 : BitVec 32 := Scalar.subi v582 c256_i32_706
  let v1176 : BitVec 32 := Scalar.maxsi c0_i32_707 v1175
  let v1177 : BitVec 32 := Scalar.minsi c256_i32_708 v1176
  let v1805 : BitVec 32 := Scalar.subi v1177 v1174
  let c1_i32_1195 : BitVec 32 := 1#32
  let v1807 : BitVec 32 := Scalar.divsi v1805 c1_i32_1195
  let v1808 : BitVec 32 := Scalar.muli v1807 c1_i32_1195
  let v1809 : BitVec 32 := Scalar.addi v1174 v1808
  let c1_i32_1197 : BitVec 32 := 1#32
  let arg13 : BitVec 32 := Scf.iv v1809 c1_i32_1197 k3_t122
  let v1836 : Index := Scalar.indexCast arg13
  let c32_1208 : Index := 32#32
  ![v1836.toNat, 32]
def k3_off490 (i : grid3.Coords) (v574 : BitVec 32) (v579 : BitVec 32) (k3_t122 : Fin (k3_t122_loop i v574 v579).trips) : Fin 2 → Nat :=
  let c256_i32_705 : BitVec 32 := 256#32
  let c0_i32_704 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c256_i32_703 : BitVec 32 := 256#32
  let v1172 : BitVec 32 := Scalar.subi v577 c256_i32_703
  let v1173 : BitVec 32 := Scalar.maxsi c0_i32_704 v1172
  let v1174 : BitVec 32 := Scalar.minsi c256_i32_705 v1173
  let c256_i32_708 : BitVec 32 := 256#32
  let c0_i32_707 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c256_i32_706 : BitVec 32 := 256#32
  let v1175 : BitVec 32 := Scalar.subi v582 c256_i32_706
  let v1176 : BitVec 32 := Scalar.maxsi c0_i32_707 v1175
  let v1177 : BitVec 32 := Scalar.minsi c256_i32_708 v1176
  let v1805 : BitVec 32 := Scalar.subi v1177 v1174
  let c1_i32_1195 : BitVec 32 := 1#32
  let v1807 : BitVec 32 := Scalar.divsi v1805 c1_i32_1195
  let v1808 : BitVec 32 := Scalar.muli v1807 c1_i32_1195
  let v1809 : BitVec 32 := Scalar.addi v1174 v1808
  let c1_i32_1197 : BitVec 32 := 1#32
  let arg13 : BitVec 32 := Scf.iv v1809 c1_i32_1197 k3_t122
  let v1840 : Index := Scalar.indexCast arg13
  let c48_1209 : Index := 48#32
  ![v1840.toNat, 48]
@[reducible] def k3_t123_loop (i : grid3.Coords) (v584 : BitVec 32) (v590 : BitVec 32) : Scf.Loop 32 :=
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let c256_i32_715 : BitVec 32 := 256#32
  let c0_i32_714 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c256_i32_713 : BitVec 32 := 256#32
  let v1184 : BitVec 32 := Scalar.subi v594 c256_i32_713
  let v1185 : BitVec 32 := Scalar.maxsi c0_i32_714 v1184
  let v1186 : BitVec 32 := Scalar.minsi c256_i32_715 v1185
  let v1805 : BitVec 32 := Scalar.subi v1186 v1183
  let c1_i32_1195 : BitVec 32 := 1#32
  let v1807 : BitVec 32 := Scalar.divsi v1805 c1_i32_1195
  let v1808 : BitVec 32 := Scalar.muli v1807 c1_i32_1195
  let v1809 : BitVec 32 := Scalar.addi v1183 v1808
  let c1_i32_1196 : BitVec 32 := 1#32
  ⟨v1183, v1809, c1_i32_1196⟩
def k3_cond62 (i : grid3.Coords) (v584 : BitVec 32) (v590 : BitVec 32) : BitVec 1 :=
  let c256_i32_715 : BitVec 32 := 256#32
  let c0_i32_714 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v592 : BitVec 32 := Scalar.subi v591 v3
  let v593 : BitVec 32 := Scalar.maxsi c0_i32_258 v592
  let v594 : BitVec 32 := Scalar.minsi c1024_i32_259 v593
  let c256_i32_713 : BitVec 32 := 256#32
  let v1184 : BitVec 32 := Scalar.subi v594 c256_i32_713
  let v1185 : BitVec 32 := Scalar.maxsi c0_i32_714 v1184
  let v1186 : BitVec 32 := Scalar.minsi c256_i32_715 v1185
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let v1187 : BitVec 1 := Scalar.cmpi .sgt v1186 v1183
  let v1188 : BitVec 32 := Scalar.extui v1187
  let c0_i32_716 : BitVec 32 := 0#32
  let v1189 : BitVec 1 := Scalar.cmpi .ne v1188 c0_i32_716
  v1189

def k3_off491 (i : grid3.Coords) (v584 : BitVec 32) (v590 : BitVec 32) (k3_t123 : Fin (k3_t123_loop i v584 v590).trips) : Fin 2 → Nat :=
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let c1_i32_1196 : BitVec 32 := 1#32
  let arg13 : BitVec 32 := Scf.iv v1183 c1_i32_1196 k3_t123
  let v1828 : Index := Scalar.indexCast arg13
  let c64 : Index := 64#32
  ![v1828.toNat, 64]
def k3_off492 (i : grid3.Coords) (v584 : BitVec 32) (v590 : BitVec 32) (k3_t123 : Fin (k3_t123_loop i v584 v590).trips) : Fin 2 → Nat :=
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let c1_i32_1196 : BitVec 32 := 1#32
  let arg13 : BitVec 32 := Scf.iv v1183 c1_i32_1196 k3_t123
  let v1832 : Index := Scalar.indexCast arg13
  let c80 : Index := 80#32
  ![v1832.toNat, 80]
def k3_off493 (i : grid3.Coords) (v584 : BitVec 32) (v590 : BitVec 32) (k3_t123 : Fin (k3_t123_loop i v584 v590).trips) : Fin 2 → Nat :=
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let c1_i32_1196 : BitVec 32 := 1#32
  let arg13 : BitVec 32 := Scf.iv v1183 c1_i32_1196 k3_t123
  let v1836 : Index := Scalar.indexCast arg13
  let c96 : Index := 96#32
  ![v1836.toNat, 96]
def k3_off494 (i : grid3.Coords) (v584 : BitVec 32) (v590 : BitVec 32) (k3_t123 : Fin (k3_t123_loop i v584 v590).trips) : Fin 2 → Nat :=
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let c1_i32_1196 : BitVec 32 := 1#32
  let arg13 : BitVec 32 := Scf.iv v1183 c1_i32_1196 k3_t123
  let v1840 : Index := Scalar.indexCast arg13
  let c112 : Index := 112#32
  ![v1840.toNat, 112]
@[reducible] def k3_t124_loop (i : grid3.Coords) (v584 : BitVec 32) (v590 : BitVec 32) : Scf.Loop 32 :=
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let c256_i32_715 : BitVec 32 := 256#32
  let c0_i32_714 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c256_i32_713 : BitVec 32 := 256#32
  let v1184 : BitVec 32 := Scalar.subi v594 c256_i32_713
  let v1185 : BitVec 32 := Scalar.maxsi c0_i32_714 v1184
  let v1186 : BitVec 32 := Scalar.minsi c256_i32_715 v1185
  let v1805 : BitVec 32 := Scalar.subi v1186 v1183
  let c1_i32_1195 : BitVec 32 := 1#32
  let v1807 : BitVec 32 := Scalar.divsi v1805 c1_i32_1195
  let v1808 : BitVec 32 := Scalar.muli v1807 c1_i32_1195
  let v1809 : BitVec 32 := Scalar.addi v1183 v1808
  let v1806 : BitVec 32 := Scalar.addi v1183 v1805
  let c1_i32_1197 : BitVec 32 := 1#32
  ⟨v1809, v1806, c1_i32_1197⟩
def k3_off495 (i : grid3.Coords) (v584 : BitVec 32) (v590 : BitVec 32) (k3_t124 : Fin (k3_t124_loop i v584 v590).trips) : Fin 2 → Nat :=
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let c256_i32_715 : BitVec 32 := 256#32
  let c0_i32_714 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c256_i32_713 : BitVec 32 := 256#32
  let v1184 : BitVec 32 := Scalar.subi v594 c256_i32_713
  let v1185 : BitVec 32 := Scalar.maxsi c0_i32_714 v1184
  let v1186 : BitVec 32 := Scalar.minsi c256_i32_715 v1185
  let v1805 : BitVec 32 := Scalar.subi v1186 v1183
  let c1_i32_1195 : BitVec 32 := 1#32
  let v1807 : BitVec 32 := Scalar.divsi v1805 c1_i32_1195
  let v1808 : BitVec 32 := Scalar.muli v1807 c1_i32_1195
  let v1809 : BitVec 32 := Scalar.addi v1183 v1808
  let c1_i32_1197 : BitVec 32 := 1#32
  let arg13 : BitVec 32 := Scf.iv v1809 c1_i32_1197 k3_t124
  let v1828 : Index := Scalar.indexCast arg13
  let c64 : Index := 64#32
  ![v1828.toNat, 64]
def k3_off496 (i : grid3.Coords) (v584 : BitVec 32) (v590 : BitVec 32) (k3_t124 : Fin (k3_t124_loop i v584 v590).trips) : Fin 2 → Nat :=
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let c256_i32_715 : BitVec 32 := 256#32
  let c0_i32_714 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c256_i32_713 : BitVec 32 := 256#32
  let v1184 : BitVec 32 := Scalar.subi v594 c256_i32_713
  let v1185 : BitVec 32 := Scalar.maxsi c0_i32_714 v1184
  let v1186 : BitVec 32 := Scalar.minsi c256_i32_715 v1185
  let v1805 : BitVec 32 := Scalar.subi v1186 v1183
  let c1_i32_1195 : BitVec 32 := 1#32
  let v1807 : BitVec 32 := Scalar.divsi v1805 c1_i32_1195
  let v1808 : BitVec 32 := Scalar.muli v1807 c1_i32_1195
  let v1809 : BitVec 32 := Scalar.addi v1183 v1808
  let c1_i32_1197 : BitVec 32 := 1#32
  let arg13 : BitVec 32 := Scf.iv v1809 c1_i32_1197 k3_t124
  let v1832 : Index := Scalar.indexCast arg13
  let c80 : Index := 80#32
  ![v1832.toNat, 80]
def k3_off497 (i : grid3.Coords) (v584 : BitVec 32) (v590 : BitVec 32) (k3_t124 : Fin (k3_t124_loop i v584 v590).trips) : Fin 2 → Nat :=
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let c256_i32_715 : BitVec 32 := 256#32
  let c0_i32_714 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c256_i32_713 : BitVec 32 := 256#32
  let v1184 : BitVec 32 := Scalar.subi v594 c256_i32_713
  let v1185 : BitVec 32 := Scalar.maxsi c0_i32_714 v1184
  let v1186 : BitVec 32 := Scalar.minsi c256_i32_715 v1185
  let v1805 : BitVec 32 := Scalar.subi v1186 v1183
  let c1_i32_1195 : BitVec 32 := 1#32
  let v1807 : BitVec 32 := Scalar.divsi v1805 c1_i32_1195
  let v1808 : BitVec 32 := Scalar.muli v1807 c1_i32_1195
  let v1809 : BitVec 32 := Scalar.addi v1183 v1808
  let c1_i32_1197 : BitVec 32 := 1#32
  let arg13 : BitVec 32 := Scf.iv v1809 c1_i32_1197 k3_t124
  let v1836 : Index := Scalar.indexCast arg13
  let c96 : Index := 96#32
  ![v1836.toNat, 96]
def k3_off498 (i : grid3.Coords) (v584 : BitVec 32) (v590 : BitVec 32) (k3_t124 : Fin (k3_t124_loop i v584 v590).trips) : Fin 2 → Nat :=
  let c256_i32_712 : BitVec 32 := 256#32
  let c0_i32_711 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c256_i32_710 : BitVec 32 := 256#32
  let v1181 : BitVec 32 := Scalar.subi v588 c256_i32_710
  let v1182 : BitVec 32 := Scalar.maxsi c0_i32_711 v1181
  let v1183 : BitVec 32 := Scalar.minsi c256_i32_712 v1182
  let c256_i32_715 : BitVec 32 := 256#32
  let c0_i32_714 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c256_i32_713 : BitVec 32 := 256#32
  let v1184 : BitVec 32 := Scalar.subi v594 c256_i32_713
  let v1185 : BitVec 32 := Scalar.maxsi c0_i32_714 v1184
  let v1186 : BitVec 32 := Scalar.minsi c256_i32_715 v1185
  let v1805 : BitVec 32 := Scalar.subi v1186 v1183
  let c1_i32_1195 : BitVec 32 := 1#32
  let v1807 : BitVec 32 := Scalar.divsi v1805 c1_i32_1195
  let v1808 : BitVec 32 := Scalar.muli v1807 c1_i32_1195
  let v1809 : BitVec 32 := Scalar.addi v1183 v1808
  let c1_i32_1197 : BitVec 32 := 1#32
  let arg13 : BitVec 32 := Scf.iv v1809 c1_i32_1197 k3_t124
  let v1840 : Index := Scalar.indexCast arg13
  let c112 : Index := 112#32
  ![v1840.toNat, 112]
@[reducible] def k3_t125_loop (i : grid3.Coords) (v596 : BitVec 32) (v601 : BitVec 32) : Scf.Loop 32 :=
  let c256_i32_719 : BitVec 32 := 256#32
  let c0_i32_718 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let c256_i32_722 : BitVec 32 := 256#32
  let c0_i32_721 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c256_i32_720 : BitVec 32 := 256#32
  let v1193 : BitVec 32 := Scalar.subi v604 c256_i32_720
  let v1194 : BitVec 32 := Scalar.maxsi c0_i32_721 v1193
  let v1195 : BitVec 32 := Scalar.minsi c256_i32_722 v1194
  let v1805 : BitVec 32 := Scalar.subi v1195 v1192
  let c1_i32_1195 : BitVec 32 := 1#32
  let v1807 : BitVec 32 := Scalar.divsi v1805 c1_i32_1195
  let v1808 : BitVec 32 := Scalar.muli v1807 c1_i32_1195
  let v1809 : BitVec 32 := Scalar.addi v1192 v1808
  let c1_i32_1196 : BitVec 32 := 1#32
  ⟨v1192, v1809, c1_i32_1196⟩
def k3_cond63 (i : grid3.Coords) (v596 : BitVec 32) (v601 : BitVec 32) : BitVec 1 :=
  let c256_i32_722 : BitVec 32 := 256#32
  let c0_i32_721 : BitVec 32 := 0#32
  let c1024_i32_263 : BitVec 32 := 1024#32
  let c0_i32_262 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v602 : BitVec 32 := Scalar.subi v601 v3
  let v603 : BitVec 32 := Scalar.maxsi c0_i32_262 v602
  let v604 : BitVec 32 := Scalar.minsi c1024_i32_263 v603
  let c256_i32_720 : BitVec 32 := 256#32
  let v1193 : BitVec 32 := Scalar.subi v604 c256_i32_720
  let v1194 : BitVec 32 := Scalar.maxsi c0_i32_721 v1193
  let v1195 : BitVec 32 := Scalar.minsi c256_i32_722 v1194
  let c256_i32_719 : BitVec 32 := 256#32
  let c0_i32_718 : BitVec 32 := 0#32
  let c1024_i32_261 : BitVec 32 := 1024#32
  let c0_i32_260 : BitVec 32 := 0#32
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let v1196 : BitVec 1 := Scalar.cmpi .sgt v1195 v1192
  let v1197 : BitVec 32 := Scalar.extui v1196
  let c0_i32_723 : BitVec 32 := 0#32
  let v1198 : BitVec 1 := Scalar.cmpi .ne v1197 c0_i32_723
  v1198

def k3_off499 (i : grid3.Coords) (v596 : BitVec 32) (v601 : BitVec 32) (k3_t125 : Fin (k3_t125_loop i v596 v601).trips) : Fin 2 → Nat :=
  let c256_i32_719 : BitVec 32 := 256#32
  let c0_i32_718 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let c1_i32_1196 : BitVec 32 := 1#32
  let arg13 : BitVec 32 := Scf.iv v1192 c1_i32_1196 k3_t125
  let v1828 : Index := Scalar.indexCast arg13
  let c0_1206 : Index := 0#32
  ![v1828.toNat, 0]
def k3_off500 (i : grid3.Coords) (v596 : BitVec 32) (v601 : BitVec 32) (k3_t125 : Fin (k3_t125_loop i v596 v601).trips) : Fin 2 → Nat :=
  let c256_i32_719 : BitVec 32 := 256#32
  let c0_i32_718 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let c1_i32_1196 : BitVec 32 := 1#32
  let arg13 : BitVec 32 := Scf.iv v1192 c1_i32_1196 k3_t125
  let v1832 : Index := Scalar.indexCast arg13
  let c16_1207 : Index := 16#32
  ![v1832.toNat, 16]
def k3_off501 (i : grid3.Coords) (v596 : BitVec 32) (v601 : BitVec 32) (k3_t125 : Fin (k3_t125_loop i v596 v601).trips) : Fin 2 → Nat :=
  let c256_i32_719 : BitVec 32 := 256#32
  let c0_i32_718 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let c1_i32_1196 : BitVec 32 := 1#32
  let arg13 : BitVec 32 := Scf.iv v1192 c1_i32_1196 k3_t125
  let v1836 : Index := Scalar.indexCast arg13
  let c32_1208 : Index := 32#32
  ![v1836.toNat, 32]
def k3_off502 (i : grid3.Coords) (v596 : BitVec 32) (v601 : BitVec 32) (k3_t125 : Fin (k3_t125_loop i v596 v601).trips) : Fin 2 → Nat :=
  let c256_i32_719 : BitVec 32 := 256#32
  let c0_i32_718 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let c1_i32_1196 : BitVec 32 := 1#32
  let arg13 : BitVec 32 := Scf.iv v1192 c1_i32_1196 k3_t125
  let v1840 : Index := Scalar.indexCast arg13
  let c48_1209 : Index := 48#32
  ![v1840.toNat, 48]
@[reducible] def k3_t126_loop (i : grid3.Coords) (v596 : BitVec 32) (v601 : BitVec 32) : Scf.Loop 32 :=
  let c256_i32_719 : BitVec 32 := 256#32
  let c0_i32_718 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let c256_i32_722 : BitVec 32 := 256#32
  let c0_i32_721 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c256_i32_720 : BitVec 32 := 256#32
  let v1193 : BitVec 32 := Scalar.subi v604 c256_i32_720
  let v1194 : BitVec 32 := Scalar.maxsi c0_i32_721 v1193
  let v1195 : BitVec 32 := Scalar.minsi c256_i32_722 v1194
  let v1805 : BitVec 32 := Scalar.subi v1195 v1192
  let c1_i32_1195 : BitVec 32 := 1#32
  let v1807 : BitVec 32 := Scalar.divsi v1805 c1_i32_1195
  let v1808 : BitVec 32 := Scalar.muli v1807 c1_i32_1195
  let v1809 : BitVec 32 := Scalar.addi v1192 v1808
  let v1806 : BitVec 32 := Scalar.addi v1192 v1805
  let c1_i32_1197 : BitVec 32 := 1#32
  ⟨v1809, v1806, c1_i32_1197⟩
def k3_off503 (i : grid3.Coords) (v596 : BitVec 32) (v601 : BitVec 32) (k3_t126 : Fin (k3_t126_loop i v596 v601).trips) : Fin 2 → Nat :=
  let c256_i32_719 : BitVec 32 := 256#32
  let c0_i32_718 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let c256_i32_722 : BitVec 32 := 256#32
  let c0_i32_721 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c256_i32_720 : BitVec 32 := 256#32
  let v1193 : BitVec 32 := Scalar.subi v604 c256_i32_720
  let v1194 : BitVec 32 := Scalar.maxsi c0_i32_721 v1193
  let v1195 : BitVec 32 := Scalar.minsi c256_i32_722 v1194
  let v1805 : BitVec 32 := Scalar.subi v1195 v1192
  let c1_i32_1195 : BitVec 32 := 1#32
  let v1807 : BitVec 32 := Scalar.divsi v1805 c1_i32_1195
  let v1808 : BitVec 32 := Scalar.muli v1807 c1_i32_1195
  let v1809 : BitVec 32 := Scalar.addi v1192 v1808
  let c1_i32_1197 : BitVec 32 := 1#32
  let arg13 : BitVec 32 := Scf.iv v1809 c1_i32_1197 k3_t126
  let v1828 : Index := Scalar.indexCast arg13
  let c0_1206 : Index := 0#32
  ![v1828.toNat, 0]
def k3_off504 (i : grid3.Coords) (v596 : BitVec 32) (v601 : BitVec 32) (k3_t126 : Fin (k3_t126_loop i v596 v601).trips) : Fin 2 → Nat :=
  let c256_i32_719 : BitVec 32 := 256#32
  let c0_i32_718 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let c256_i32_722 : BitVec 32 := 256#32
  let c0_i32_721 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c256_i32_720 : BitVec 32 := 256#32
  let v1193 : BitVec 32 := Scalar.subi v604 c256_i32_720
  let v1194 : BitVec 32 := Scalar.maxsi c0_i32_721 v1193
  let v1195 : BitVec 32 := Scalar.minsi c256_i32_722 v1194
  let v1805 : BitVec 32 := Scalar.subi v1195 v1192
  let c1_i32_1195 : BitVec 32 := 1#32
  let v1807 : BitVec 32 := Scalar.divsi v1805 c1_i32_1195
  let v1808 : BitVec 32 := Scalar.muli v1807 c1_i32_1195
  let v1809 : BitVec 32 := Scalar.addi v1192 v1808
  let c1_i32_1197 : BitVec 32 := 1#32
  let arg13 : BitVec 32 := Scf.iv v1809 c1_i32_1197 k3_t126
  let v1832 : Index := Scalar.indexCast arg13
  let c16_1207 : Index := 16#32
  ![v1832.toNat, 16]
def k3_off505 (i : grid3.Coords) (v596 : BitVec 32) (v601 : BitVec 32) (k3_t126 : Fin (k3_t126_loop i v596 v601).trips) : Fin 2 → Nat :=
  let c256_i32_719 : BitVec 32 := 256#32
  let c0_i32_718 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let c256_i32_722 : BitVec 32 := 256#32
  let c0_i32_721 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c256_i32_720 : BitVec 32 := 256#32
  let v1193 : BitVec 32 := Scalar.subi v604 c256_i32_720
  let v1194 : BitVec 32 := Scalar.maxsi c0_i32_721 v1193
  let v1195 : BitVec 32 := Scalar.minsi c256_i32_722 v1194
  let v1805 : BitVec 32 := Scalar.subi v1195 v1192
  let c1_i32_1195 : BitVec 32 := 1#32
  let v1807 : BitVec 32 := Scalar.divsi v1805 c1_i32_1195
  let v1808 : BitVec 32 := Scalar.muli v1807 c1_i32_1195
  let v1809 : BitVec 32 := Scalar.addi v1192 v1808
  let c1_i32_1197 : BitVec 32 := 1#32
  let arg13 : BitVec 32 := Scf.iv v1809 c1_i32_1197 k3_t126
  let v1836 : Index := Scalar.indexCast arg13
  let c32_1208 : Index := 32#32
  ![v1836.toNat, 32]
def k3_off506 (i : grid3.Coords) (v596 : BitVec 32) (v601 : BitVec 32) (k3_t126 : Fin (k3_t126_loop i v596 v601).trips) : Fin 2 → Nat :=
  let c256_i32_719 : BitVec 32 := 256#32
  let c0_i32_718 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c256_i32_717 : BitVec 32 := 256#32
  let v1190 : BitVec 32 := Scalar.subi v599 c256_i32_717
  let v1191 : BitVec 32 := Scalar.maxsi c0_i32_718 v1190
  let v1192 : BitVec 32 := Scalar.minsi c256_i32_719 v1191
  let c256_i32_722 : BitVec 32 := 256#32
  let c0_i32_721 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c256_i32_720 : BitVec 32 := 256#32
  let v1193 : BitVec 32 := Scalar.subi v604 c256_i32_720
  let v1194 : BitVec 32 := Scalar.maxsi c0_i32_721 v1193
  let v1195 : BitVec 32 := Scalar.minsi c256_i32_722 v1194
  let v1805 : BitVec 32 := Scalar.subi v1195 v1192
  let c1_i32_1195 : BitVec 32 := 1#32
  let v1807 : BitVec 32 := Scalar.divsi v1805 c1_i32_1195
  let v1808 : BitVec 32 := Scalar.muli v1807 c1_i32_1195
  let v1809 : BitVec 32 := Scalar.addi v1192 v1808
  let c1_i32_1197 : BitVec 32 := 1#32
  let arg13 : BitVec 32 := Scf.iv v1809 c1_i32_1197 k3_t126
  let v1840 : Index := Scalar.indexCast arg13
  let c48_1209 : Index := 48#32
  ![v1840.toNat, 48]
@[reducible] def k3_t127_loop (i : grid3.Coords) (v606 : BitVec 32) (v612 : BitVec 32) : Scf.Loop 32 :=
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let c256_i32_729 : BitVec 32 := 256#32
  let c0_i32_728 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c256_i32_727 : BitVec 32 := 256#32
  let v1202 : BitVec 32 := Scalar.subi v616 c256_i32_727
  let v1203 : BitVec 32 := Scalar.maxsi c0_i32_728 v1202
  let v1204 : BitVec 32 := Scalar.minsi c256_i32_729 v1203
  let v1805 : BitVec 32 := Scalar.subi v1204 v1201
  let c1_i32_1195 : BitVec 32 := 1#32
  let v1807 : BitVec 32 := Scalar.divsi v1805 c1_i32_1195
  let v1808 : BitVec 32 := Scalar.muli v1807 c1_i32_1195
  let v1809 : BitVec 32 := Scalar.addi v1201 v1808
  let c1_i32_1196 : BitVec 32 := 1#32
  ⟨v1201, v1809, c1_i32_1196⟩
def k3_cond64 (i : grid3.Coords) (v606 : BitVec 32) (v612 : BitVec 32) : BitVec 1 :=
  let c256_i32_729 : BitVec 32 := 256#32
  let c0_i32_728 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v614 : BitVec 32 := Scalar.subi v613 v3
  let v615 : BitVec 32 := Scalar.maxsi c0_i32_268 v614
  let v616 : BitVec 32 := Scalar.minsi c1024_i32_269 v615
  let c256_i32_727 : BitVec 32 := 256#32
  let v1202 : BitVec 32 := Scalar.subi v616 c256_i32_727
  let v1203 : BitVec 32 := Scalar.maxsi c0_i32_728 v1202
  let v1204 : BitVec 32 := Scalar.minsi c256_i32_729 v1203
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let v1205 : BitVec 1 := Scalar.cmpi .sgt v1204 v1201
  let v1206 : BitVec 32 := Scalar.extui v1205
  let c0_i32_730 : BitVec 32 := 0#32
  let v1207 : BitVec 1 := Scalar.cmpi .ne v1206 c0_i32_730
  v1207

def k3_off507 (i : grid3.Coords) (v606 : BitVec 32) (v612 : BitVec 32) (k3_t127 : Fin (k3_t127_loop i v606 v612).trips) : Fin 2 → Nat :=
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let c1_i32_1196 : BitVec 32 := 1#32
  let arg13 : BitVec 32 := Scf.iv v1201 c1_i32_1196 k3_t127
  let v1828 : Index := Scalar.indexCast arg13
  let c64 : Index := 64#32
  ![v1828.toNat, 64]
def k3_off508 (i : grid3.Coords) (v606 : BitVec 32) (v612 : BitVec 32) (k3_t127 : Fin (k3_t127_loop i v606 v612).trips) : Fin 2 → Nat :=
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let c1_i32_1196 : BitVec 32 := 1#32
  let arg13 : BitVec 32 := Scf.iv v1201 c1_i32_1196 k3_t127
  let v1832 : Index := Scalar.indexCast arg13
  let c80 : Index := 80#32
  ![v1832.toNat, 80]
def k3_off509 (i : grid3.Coords) (v606 : BitVec 32) (v612 : BitVec 32) (k3_t127 : Fin (k3_t127_loop i v606 v612).trips) : Fin 2 → Nat :=
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let c1_i32_1196 : BitVec 32 := 1#32
  let arg13 : BitVec 32 := Scf.iv v1201 c1_i32_1196 k3_t127
  let v1836 : Index := Scalar.indexCast arg13
  let c96 : Index := 96#32
  ![v1836.toNat, 96]
def k3_off510 (i : grid3.Coords) (v606 : BitVec 32) (v612 : BitVec 32) (k3_t127 : Fin (k3_t127_loop i v606 v612).trips) : Fin 2 → Nat :=
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let c1_i32_1196 : BitVec 32 := 1#32
  let arg13 : BitVec 32 := Scf.iv v1201 c1_i32_1196 k3_t127
  let v1840 : Index := Scalar.indexCast arg13
  let c112 : Index := 112#32
  ![v1840.toNat, 112]
@[reducible] def k3_t128_loop (i : grid3.Coords) (v606 : BitVec 32) (v612 : BitVec 32) : Scf.Loop 32 :=
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let c256_i32_729 : BitVec 32 := 256#32
  let c0_i32_728 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c256_i32_727 : BitVec 32 := 256#32
  let v1202 : BitVec 32 := Scalar.subi v616 c256_i32_727
  let v1203 : BitVec 32 := Scalar.maxsi c0_i32_728 v1202
  let v1204 : BitVec 32 := Scalar.minsi c256_i32_729 v1203
  let v1805 : BitVec 32 := Scalar.subi v1204 v1201
  let c1_i32_1195 : BitVec 32 := 1#32
  let v1807 : BitVec 32 := Scalar.divsi v1805 c1_i32_1195
  let v1808 : BitVec 32 := Scalar.muli v1807 c1_i32_1195
  let v1809 : BitVec 32 := Scalar.addi v1201 v1808
  let v1806 : BitVec 32 := Scalar.addi v1201 v1805
  let c1_i32_1197 : BitVec 32 := 1#32
  ⟨v1809, v1806, c1_i32_1197⟩
def k3_off511 (i : grid3.Coords) (v606 : BitVec 32) (v612 : BitVec 32) (k3_t128 : Fin (k3_t128_loop i v606 v612).trips) : Fin 2 → Nat :=
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let c256_i32_729 : BitVec 32 := 256#32
  let c0_i32_728 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c256_i32_727 : BitVec 32 := 256#32
  let v1202 : BitVec 32 := Scalar.subi v616 c256_i32_727
  let v1203 : BitVec 32 := Scalar.maxsi c0_i32_728 v1202
  let v1204 : BitVec 32 := Scalar.minsi c256_i32_729 v1203
  let v1805 : BitVec 32 := Scalar.subi v1204 v1201
  let c1_i32_1195 : BitVec 32 := 1#32
  let v1807 : BitVec 32 := Scalar.divsi v1805 c1_i32_1195
  let v1808 : BitVec 32 := Scalar.muli v1807 c1_i32_1195
  let v1809 : BitVec 32 := Scalar.addi v1201 v1808
  let c1_i32_1197 : BitVec 32 := 1#32
  let arg13 : BitVec 32 := Scf.iv v1809 c1_i32_1197 k3_t128
  let v1828 : Index := Scalar.indexCast arg13
  let c64 : Index := 64#32
  ![v1828.toNat, 64]
def k3_off512 (i : grid3.Coords) (v606 : BitVec 32) (v612 : BitVec 32) (k3_t128 : Fin (k3_t128_loop i v606 v612).trips) : Fin 2 → Nat :=
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let c256_i32_729 : BitVec 32 := 256#32
  let c0_i32_728 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c256_i32_727 : BitVec 32 := 256#32
  let v1202 : BitVec 32 := Scalar.subi v616 c256_i32_727
  let v1203 : BitVec 32 := Scalar.maxsi c0_i32_728 v1202
  let v1204 : BitVec 32 := Scalar.minsi c256_i32_729 v1203
  let v1805 : BitVec 32 := Scalar.subi v1204 v1201
  let c1_i32_1195 : BitVec 32 := 1#32
  let v1807 : BitVec 32 := Scalar.divsi v1805 c1_i32_1195
  let v1808 : BitVec 32 := Scalar.muli v1807 c1_i32_1195
  let v1809 : BitVec 32 := Scalar.addi v1201 v1808
  let c1_i32_1197 : BitVec 32 := 1#32
  let arg13 : BitVec 32 := Scf.iv v1809 c1_i32_1197 k3_t128
  let v1832 : Index := Scalar.indexCast arg13
  let c80 : Index := 80#32
  ![v1832.toNat, 80]
def k3_off513 (i : grid3.Coords) (v606 : BitVec 32) (v612 : BitVec 32) (k3_t128 : Fin (k3_t128_loop i v606 v612).trips) : Fin 2 → Nat :=
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let c256_i32_729 : BitVec 32 := 256#32
  let c0_i32_728 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c256_i32_727 : BitVec 32 := 256#32
  let v1202 : BitVec 32 := Scalar.subi v616 c256_i32_727
  let v1203 : BitVec 32 := Scalar.maxsi c0_i32_728 v1202
  let v1204 : BitVec 32 := Scalar.minsi c256_i32_729 v1203
  let v1805 : BitVec 32 := Scalar.subi v1204 v1201
  let c1_i32_1195 : BitVec 32 := 1#32
  let v1807 : BitVec 32 := Scalar.divsi v1805 c1_i32_1195
  let v1808 : BitVec 32 := Scalar.muli v1807 c1_i32_1195
  let v1809 : BitVec 32 := Scalar.addi v1201 v1808
  let c1_i32_1197 : BitVec 32 := 1#32
  let arg13 : BitVec 32 := Scf.iv v1809 c1_i32_1197 k3_t128
  let v1836 : Index := Scalar.indexCast arg13
  let c96 : Index := 96#32
  ![v1836.toNat, 96]
def k3_off514 (i : grid3.Coords) (v606 : BitVec 32) (v612 : BitVec 32) (k3_t128 : Fin (k3_t128_loop i v606 v612).trips) : Fin 2 → Nat :=
  let c256_i32_726 : BitVec 32 := 256#32
  let c0_i32_725 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c256_i32_724 : BitVec 32 := 256#32
  let v1199 : BitVec 32 := Scalar.subi v610 c256_i32_724
  let v1200 : BitVec 32 := Scalar.maxsi c0_i32_725 v1199
  let v1201 : BitVec 32 := Scalar.minsi c256_i32_726 v1200
  let c256_i32_729 : BitVec 32 := 256#32
  let c0_i32_728 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c256_i32_727 : BitVec 32 := 256#32
  let v1202 : BitVec 32 := Scalar.subi v616 c256_i32_727
  let v1203 : BitVec 32 := Scalar.maxsi c0_i32_728 v1202
  let v1204 : BitVec 32 := Scalar.minsi c256_i32_729 v1203
  let v1805 : BitVec 32 := Scalar.subi v1204 v1201
  let c1_i32_1195 : BitVec 32 := 1#32
  let v1807 : BitVec 32 := Scalar.divsi v1805 c1_i32_1195
  let v1808 : BitVec 32 := Scalar.muli v1807 c1_i32_1195
  let v1809 : BitVec 32 := Scalar.addi v1201 v1808
  let c1_i32_1197 : BitVec 32 := 1#32
  let arg13 : BitVec 32 := Scf.iv v1809 c1_i32_1197 k3_t128
  let v1840 : Index := Scalar.indexCast arg13
  let c112 : Index := 112#32
  ![v1840.toNat, 112]
@[reducible] def k3_t129_loop (i : grid3.Coords) (v266 : BitVec 32) (v271 : BitVec 32) : Scf.Loop 32 :=
  let c256_i32_738 : BitVec 32 := 256#32
  let c0_i32_737 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let c256_i32_741 : BitVec 32 := 256#32
  let c0_i32_740 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c512_i32_739 : BitVec 32 := 512#32
  let v1217 : BitVec 32 := Scalar.subi v274 c512_i32_739
  let v1218 : BitVec 32 := Scalar.maxsi c0_i32_740 v1217
  let v1219 : BitVec 32 := Scalar.minsi c256_i32_741 v1218
  let v1805 : BitVec 32 := Scalar.subi v1219 v1216
  let c1_i32_1195 : BitVec 32 := 1#32
  let v1807 : BitVec 32 := Scalar.divsi v1805 c1_i32_1195
  let v1808 : BitVec 32 := Scalar.muli v1807 c1_i32_1195
  let v1809 : BitVec 32 := Scalar.addi v1216 v1808
  let c1_i32_1196 : BitVec 32 := 1#32
  ⟨v1216, v1809, c1_i32_1196⟩
def k3_cond65 (i : grid3.Coords) (v266 : BitVec 32) (v271 : BitVec 32) : BitVec 1 :=
  let c256_i32_741 : BitVec 32 := 256#32
  let c0_i32_740 : BitVec 32 := 0#32
  let c1024_i32_114 : BitVec 32 := 1024#32
  let c0_i32_113 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v272 : BitVec 32 := Scalar.subi v271 v3
  let v273 : BitVec 32 := Scalar.maxsi c0_i32_113 v272
  let v274 : BitVec 32 := Scalar.minsi c1024_i32_114 v273
  let c512_i32_739 : BitVec 32 := 512#32
  let v1217 : BitVec 32 := Scalar.subi v274 c512_i32_739
  let v1218 : BitVec 32 := Scalar.maxsi c0_i32_740 v1217
  let v1219 : BitVec 32 := Scalar.minsi c256_i32_741 v1218
  let c256_i32_738 : BitVec 32 := 256#32
  let c0_i32_737 : BitVec 32 := 0#32
  let c1024_i32_112 : BitVec 32 := 1024#32
  let c0_i32_111 : BitVec 32 := 0#32
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let v1220 : BitVec 1 := Scalar.cmpi .sgt v1219 v1216
  let v1221 : BitVec 32 := Scalar.extui v1220
  let c0_i32_742 : BitVec 32 := 0#32
  let v1222 : BitVec 1 := Scalar.cmpi .ne v1221 c0_i32_742
  v1222

def k3_off515 (i : grid3.Coords) (v266 : BitVec 32) (v271 : BitVec 32) (k3_t129 : Fin (k3_t129_loop i v266 v271).trips) : Fin 2 → Nat :=
  let c256_i32_738 : BitVec 32 := 256#32
  let c0_i32_737 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let c1_i32_1196 : BitVec 32 := 1#32
  let arg13 : BitVec 32 := Scf.iv v1216 c1_i32_1196 k3_t129
  let v1828 : Index := Scalar.indexCast arg13
  let c0_1206 : Index := 0#32
  ![v1828.toNat, 0]
def k3_off516 (i : grid3.Coords) (v266 : BitVec 32) (v271 : BitVec 32) (k3_t129 : Fin (k3_t129_loop i v266 v271).trips) : Fin 2 → Nat :=
  let c256_i32_738 : BitVec 32 := 256#32
  let c0_i32_737 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let c1_i32_1196 : BitVec 32 := 1#32
  let arg13 : BitVec 32 := Scf.iv v1216 c1_i32_1196 k3_t129
  let v1832 : Index := Scalar.indexCast arg13
  let c16_1207 : Index := 16#32
  ![v1832.toNat, 16]
def k3_off517 (i : grid3.Coords) (v266 : BitVec 32) (v271 : BitVec 32) (k3_t129 : Fin (k3_t129_loop i v266 v271).trips) : Fin 2 → Nat :=
  let c256_i32_738 : BitVec 32 := 256#32
  let c0_i32_737 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let c1_i32_1196 : BitVec 32 := 1#32
  let arg13 : BitVec 32 := Scf.iv v1216 c1_i32_1196 k3_t129
  let v1836 : Index := Scalar.indexCast arg13
  let c32_1208 : Index := 32#32
  ![v1836.toNat, 32]
def k3_off518 (i : grid3.Coords) (v266 : BitVec 32) (v271 : BitVec 32) (k3_t129 : Fin (k3_t129_loop i v266 v271).trips) : Fin 2 → Nat :=
  let c256_i32_738 : BitVec 32 := 256#32
  let c0_i32_737 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let c1_i32_1196 : BitVec 32 := 1#32
  let arg13 : BitVec 32 := Scf.iv v1216 c1_i32_1196 k3_t129
  let v1840 : Index := Scalar.indexCast arg13
  let c48_1209 : Index := 48#32
  ![v1840.toNat, 48]
@[reducible] def k3_t130_loop (i : grid3.Coords) (v266 : BitVec 32) (v271 : BitVec 32) : Scf.Loop 32 :=
  let c256_i32_738 : BitVec 32 := 256#32
  let c0_i32_737 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let c256_i32_741 : BitVec 32 := 256#32
  let c0_i32_740 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c512_i32_739 : BitVec 32 := 512#32
  let v1217 : BitVec 32 := Scalar.subi v274 c512_i32_739
  let v1218 : BitVec 32 := Scalar.maxsi c0_i32_740 v1217
  let v1219 : BitVec 32 := Scalar.minsi c256_i32_741 v1218
  let v1805 : BitVec 32 := Scalar.subi v1219 v1216
  let c1_i32_1195 : BitVec 32 := 1#32
  let v1807 : BitVec 32 := Scalar.divsi v1805 c1_i32_1195
  let v1808 : BitVec 32 := Scalar.muli v1807 c1_i32_1195
  let v1809 : BitVec 32 := Scalar.addi v1216 v1808
  let v1806 : BitVec 32 := Scalar.addi v1216 v1805
  let c1_i32_1197 : BitVec 32 := 1#32
  ⟨v1809, v1806, c1_i32_1197⟩
def k3_off519 (i : grid3.Coords) (v266 : BitVec 32) (v271 : BitVec 32) (k3_t130 : Fin (k3_t130_loop i v266 v271).trips) : Fin 2 → Nat :=
  let c256_i32_738 : BitVec 32 := 256#32
  let c0_i32_737 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let c256_i32_741 : BitVec 32 := 256#32
  let c0_i32_740 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c512_i32_739 : BitVec 32 := 512#32
  let v1217 : BitVec 32 := Scalar.subi v274 c512_i32_739
  let v1218 : BitVec 32 := Scalar.maxsi c0_i32_740 v1217
  let v1219 : BitVec 32 := Scalar.minsi c256_i32_741 v1218
  let v1805 : BitVec 32 := Scalar.subi v1219 v1216
  let c1_i32_1195 : BitVec 32 := 1#32
  let v1807 : BitVec 32 := Scalar.divsi v1805 c1_i32_1195
  let v1808 : BitVec 32 := Scalar.muli v1807 c1_i32_1195
  let v1809 : BitVec 32 := Scalar.addi v1216 v1808
  let c1_i32_1197 : BitVec 32 := 1#32
  let arg13 : BitVec 32 := Scf.iv v1809 c1_i32_1197 k3_t130
  let v1828 : Index := Scalar.indexCast arg13
  let c0_1206 : Index := 0#32
  ![v1828.toNat, 0]
def k3_off520 (i : grid3.Coords) (v266 : BitVec 32) (v271 : BitVec 32) (k3_t130 : Fin (k3_t130_loop i v266 v271).trips) : Fin 2 → Nat :=
  let c256_i32_738 : BitVec 32 := 256#32
  let c0_i32_737 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let c256_i32_741 : BitVec 32 := 256#32
  let c0_i32_740 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c512_i32_739 : BitVec 32 := 512#32
  let v1217 : BitVec 32 := Scalar.subi v274 c512_i32_739
  let v1218 : BitVec 32 := Scalar.maxsi c0_i32_740 v1217
  let v1219 : BitVec 32 := Scalar.minsi c256_i32_741 v1218
  let v1805 : BitVec 32 := Scalar.subi v1219 v1216
  let c1_i32_1195 : BitVec 32 := 1#32
  let v1807 : BitVec 32 := Scalar.divsi v1805 c1_i32_1195
  let v1808 : BitVec 32 := Scalar.muli v1807 c1_i32_1195
  let v1809 : BitVec 32 := Scalar.addi v1216 v1808
  let c1_i32_1197 : BitVec 32 := 1#32
  let arg13 : BitVec 32 := Scf.iv v1809 c1_i32_1197 k3_t130
  let v1832 : Index := Scalar.indexCast arg13
  let c16_1207 : Index := 16#32
  ![v1832.toNat, 16]
def k3_off521 (i : grid3.Coords) (v266 : BitVec 32) (v271 : BitVec 32) (k3_t130 : Fin (k3_t130_loop i v266 v271).trips) : Fin 2 → Nat :=
  let c256_i32_738 : BitVec 32 := 256#32
  let c0_i32_737 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let c256_i32_741 : BitVec 32 := 256#32
  let c0_i32_740 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c512_i32_739 : BitVec 32 := 512#32
  let v1217 : BitVec 32 := Scalar.subi v274 c512_i32_739
  let v1218 : BitVec 32 := Scalar.maxsi c0_i32_740 v1217
  let v1219 : BitVec 32 := Scalar.minsi c256_i32_741 v1218
  let v1805 : BitVec 32 := Scalar.subi v1219 v1216
  let c1_i32_1195 : BitVec 32 := 1#32
  let v1807 : BitVec 32 := Scalar.divsi v1805 c1_i32_1195
  let v1808 : BitVec 32 := Scalar.muli v1807 c1_i32_1195
  let v1809 : BitVec 32 := Scalar.addi v1216 v1808
  let c1_i32_1197 : BitVec 32 := 1#32
  let arg13 : BitVec 32 := Scf.iv v1809 c1_i32_1197 k3_t130
  let v1836 : Index := Scalar.indexCast arg13
  let c32_1208 : Index := 32#32
  ![v1836.toNat, 32]
def k3_off522 (i : grid3.Coords) (v266 : BitVec 32) (v271 : BitVec 32) (k3_t130 : Fin (k3_t130_loop i v266 v271).trips) : Fin 2 → Nat :=
  let c256_i32_738 : BitVec 32 := 256#32
  let c0_i32_737 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c512_i32_736 : BitVec 32 := 512#32
  let v1214 : BitVec 32 := Scalar.subi v269 c512_i32_736
  let v1215 : BitVec 32 := Scalar.maxsi c0_i32_737 v1214
  let v1216 : BitVec 32 := Scalar.minsi c256_i32_738 v1215
  let c256_i32_741 : BitVec 32 := 256#32
  let c0_i32_740 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c512_i32_739 : BitVec 32 := 512#32
  let v1217 : BitVec 32 := Scalar.subi v274 c512_i32_739
  let v1218 : BitVec 32 := Scalar.maxsi c0_i32_740 v1217
  let v1219 : BitVec 32 := Scalar.minsi c256_i32_741 v1218
  let v1805 : BitVec 32 := Scalar.subi v1219 v1216
  let c1_i32_1195 : BitVec 32 := 1#32
  let v1807 : BitVec 32 := Scalar.divsi v1805 c1_i32_1195
  let v1808 : BitVec 32 := Scalar.muli v1807 c1_i32_1195
  let v1809 : BitVec 32 := Scalar.addi v1216 v1808
  let c1_i32_1197 : BitVec 32 := 1#32
  let arg13 : BitVec 32 := Scf.iv v1809 c1_i32_1197 k3_t130
  let v1840 : Index := Scalar.indexCast arg13
  let c48_1209 : Index := 48#32
  ![v1840.toNat, 48]
@[reducible] def k3_t131_loop (i : grid3.Coords) (v276 : BitVec 32) (v282 : BitVec 32) : Scf.Loop 32 :=
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let c256_i32_748 : BitVec 32 := 256#32
  let c0_i32_747 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c512_i32_746 : BitVec 32 := 512#32
  let v1226 : BitVec 32 := Scalar.subi v286 c512_i32_746
  let v1227 : BitVec 32 := Scalar.maxsi c0_i32_747 v1226
  let v1228 : BitVec 32 := Scalar.minsi c256_i32_748 v1227
  let v1805 : BitVec 32 := Scalar.subi v1228 v1225
  let c1_i32_1195 : BitVec 32 := 1#32
  let v1807 : BitVec 32 := Scalar.divsi v1805 c1_i32_1195
  let v1808 : BitVec 32 := Scalar.muli v1807 c1_i32_1195
  let v1809 : BitVec 32 := Scalar.addi v1225 v1808
  let c1_i32_1196 : BitVec 32 := 1#32
  ⟨v1225, v1809, c1_i32_1196⟩
def k3_cond66 (i : grid3.Coords) (v276 : BitVec 32) (v282 : BitVec 32) : BitVec 1 :=
  let c256_i32_748 : BitVec 32 := 256#32
  let c0_i32_747 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v284 : BitVec 32 := Scalar.subi v283 v3
  let v285 : BitVec 32 := Scalar.maxsi c0_i32_118 v284
  let v286 : BitVec 32 := Scalar.minsi c1024_i32_119 v285
  let c512_i32_746 : BitVec 32 := 512#32
  let v1226 : BitVec 32 := Scalar.subi v286 c512_i32_746
  let v1227 : BitVec 32 := Scalar.maxsi c0_i32_747 v1226
  let v1228 : BitVec 32 := Scalar.minsi c256_i32_748 v1227
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let v1229 : BitVec 1 := Scalar.cmpi .sgt v1228 v1225
  let v1230 : BitVec 32 := Scalar.extui v1229
  let c0_i32_749 : BitVec 32 := 0#32
  let v1231 : BitVec 1 := Scalar.cmpi .ne v1230 c0_i32_749
  v1231

def k3_off523 (i : grid3.Coords) (v276 : BitVec 32) (v282 : BitVec 32) (k3_t131 : Fin (k3_t131_loop i v276 v282).trips) : Fin 2 → Nat :=
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let c1_i32_1196 : BitVec 32 := 1#32
  let arg13 : BitVec 32 := Scf.iv v1225 c1_i32_1196 k3_t131
  let v1828 : Index := Scalar.indexCast arg13
  let c64 : Index := 64#32
  ![v1828.toNat, 64]
def k3_off524 (i : grid3.Coords) (v276 : BitVec 32) (v282 : BitVec 32) (k3_t131 : Fin (k3_t131_loop i v276 v282).trips) : Fin 2 → Nat :=
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let c1_i32_1196 : BitVec 32 := 1#32
  let arg13 : BitVec 32 := Scf.iv v1225 c1_i32_1196 k3_t131
  let v1832 : Index := Scalar.indexCast arg13
  let c80 : Index := 80#32
  ![v1832.toNat, 80]
def k3_off525 (i : grid3.Coords) (v276 : BitVec 32) (v282 : BitVec 32) (k3_t131 : Fin (k3_t131_loop i v276 v282).trips) : Fin 2 → Nat :=
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let c1_i32_1196 : BitVec 32 := 1#32
  let arg13 : BitVec 32 := Scf.iv v1225 c1_i32_1196 k3_t131
  let v1836 : Index := Scalar.indexCast arg13
  let c96 : Index := 96#32
  ![v1836.toNat, 96]
def k3_off526 (i : grid3.Coords) (v276 : BitVec 32) (v282 : BitVec 32) (k3_t131 : Fin (k3_t131_loop i v276 v282).trips) : Fin 2 → Nat :=
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let c1_i32_1196 : BitVec 32 := 1#32
  let arg13 : BitVec 32 := Scf.iv v1225 c1_i32_1196 k3_t131
  let v1840 : Index := Scalar.indexCast arg13
  let c112 : Index := 112#32
  ![v1840.toNat, 112]
@[reducible] def k3_t132_loop (i : grid3.Coords) (v276 : BitVec 32) (v282 : BitVec 32) : Scf.Loop 32 :=
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let c256_i32_748 : BitVec 32 := 256#32
  let c0_i32_747 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c512_i32_746 : BitVec 32 := 512#32
  let v1226 : BitVec 32 := Scalar.subi v286 c512_i32_746
  let v1227 : BitVec 32 := Scalar.maxsi c0_i32_747 v1226
  let v1228 : BitVec 32 := Scalar.minsi c256_i32_748 v1227
  let v1805 : BitVec 32 := Scalar.subi v1228 v1225
  let c1_i32_1195 : BitVec 32 := 1#32
  let v1807 : BitVec 32 := Scalar.divsi v1805 c1_i32_1195
  let v1808 : BitVec 32 := Scalar.muli v1807 c1_i32_1195
  let v1809 : BitVec 32 := Scalar.addi v1225 v1808
  let v1806 : BitVec 32 := Scalar.addi v1225 v1805
  let c1_i32_1197 : BitVec 32 := 1#32
  ⟨v1809, v1806, c1_i32_1197⟩
def k3_off527 (i : grid3.Coords) (v276 : BitVec 32) (v282 : BitVec 32) (k3_t132 : Fin (k3_t132_loop i v276 v282).trips) : Fin 2 → Nat :=
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let c256_i32_748 : BitVec 32 := 256#32
  let c0_i32_747 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c512_i32_746 : BitVec 32 := 512#32
  let v1226 : BitVec 32 := Scalar.subi v286 c512_i32_746
  let v1227 : BitVec 32 := Scalar.maxsi c0_i32_747 v1226
  let v1228 : BitVec 32 := Scalar.minsi c256_i32_748 v1227
  let v1805 : BitVec 32 := Scalar.subi v1228 v1225
  let c1_i32_1195 : BitVec 32 := 1#32
  let v1807 : BitVec 32 := Scalar.divsi v1805 c1_i32_1195
  let v1808 : BitVec 32 := Scalar.muli v1807 c1_i32_1195
  let v1809 : BitVec 32 := Scalar.addi v1225 v1808
  let c1_i32_1197 : BitVec 32 := 1#32
  let arg13 : BitVec 32 := Scf.iv v1809 c1_i32_1197 k3_t132
  let v1828 : Index := Scalar.indexCast arg13
  let c64 : Index := 64#32
  ![v1828.toNat, 64]
def k3_off528 (i : grid3.Coords) (v276 : BitVec 32) (v282 : BitVec 32) (k3_t132 : Fin (k3_t132_loop i v276 v282).trips) : Fin 2 → Nat :=
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let c256_i32_748 : BitVec 32 := 256#32
  let c0_i32_747 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c512_i32_746 : BitVec 32 := 512#32
  let v1226 : BitVec 32 := Scalar.subi v286 c512_i32_746
  let v1227 : BitVec 32 := Scalar.maxsi c0_i32_747 v1226
  let v1228 : BitVec 32 := Scalar.minsi c256_i32_748 v1227
  let v1805 : BitVec 32 := Scalar.subi v1228 v1225
  let c1_i32_1195 : BitVec 32 := 1#32
  let v1807 : BitVec 32 := Scalar.divsi v1805 c1_i32_1195
  let v1808 : BitVec 32 := Scalar.muli v1807 c1_i32_1195
  let v1809 : BitVec 32 := Scalar.addi v1225 v1808
  let c1_i32_1197 : BitVec 32 := 1#32
  let arg13 : BitVec 32 := Scf.iv v1809 c1_i32_1197 k3_t132
  let v1832 : Index := Scalar.indexCast arg13
  let c80 : Index := 80#32
  ![v1832.toNat, 80]
def k3_off529 (i : grid3.Coords) (v276 : BitVec 32) (v282 : BitVec 32) (k3_t132 : Fin (k3_t132_loop i v276 v282).trips) : Fin 2 → Nat :=
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let c256_i32_748 : BitVec 32 := 256#32
  let c0_i32_747 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c512_i32_746 : BitVec 32 := 512#32
  let v1226 : BitVec 32 := Scalar.subi v286 c512_i32_746
  let v1227 : BitVec 32 := Scalar.maxsi c0_i32_747 v1226
  let v1228 : BitVec 32 := Scalar.minsi c256_i32_748 v1227
  let v1805 : BitVec 32 := Scalar.subi v1228 v1225
  let c1_i32_1195 : BitVec 32 := 1#32
  let v1807 : BitVec 32 := Scalar.divsi v1805 c1_i32_1195
  let v1808 : BitVec 32 := Scalar.muli v1807 c1_i32_1195
  let v1809 : BitVec 32 := Scalar.addi v1225 v1808
  let c1_i32_1197 : BitVec 32 := 1#32
  let arg13 : BitVec 32 := Scf.iv v1809 c1_i32_1197 k3_t132
  let v1836 : Index := Scalar.indexCast arg13
  let c96 : Index := 96#32
  ![v1836.toNat, 96]
def k3_off530 (i : grid3.Coords) (v276 : BitVec 32) (v282 : BitVec 32) (k3_t132 : Fin (k3_t132_loop i v276 v282).trips) : Fin 2 → Nat :=
  let c256_i32_745 : BitVec 32 := 256#32
  let c0_i32_744 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c512_i32_743 : BitVec 32 := 512#32
  let v1223 : BitVec 32 := Scalar.subi v280 c512_i32_743
  let v1224 : BitVec 32 := Scalar.maxsi c0_i32_744 v1223
  let v1225 : BitVec 32 := Scalar.minsi c256_i32_745 v1224
  let c256_i32_748 : BitVec 32 := 256#32
  let c0_i32_747 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c512_i32_746 : BitVec 32 := 512#32
  let v1226 : BitVec 32 := Scalar.subi v286 c512_i32_746
  let v1227 : BitVec 32 := Scalar.maxsi c0_i32_747 v1226
  let v1228 : BitVec 32 := Scalar.minsi c256_i32_748 v1227
  let v1805 : BitVec 32 := Scalar.subi v1228 v1225
  let c1_i32_1195 : BitVec 32 := 1#32
  let v1807 : BitVec 32 := Scalar.divsi v1805 c1_i32_1195
  let v1808 : BitVec 32 := Scalar.muli v1807 c1_i32_1195
  let v1809 : BitVec 32 := Scalar.addi v1225 v1808
  let c1_i32_1197 : BitVec 32 := 1#32
  let arg13 : BitVec 32 := Scf.iv v1809 c1_i32_1197 k3_t132
  let v1840 : Index := Scalar.indexCast arg13
  let c112 : Index := 112#32
  ![v1840.toNat, 112]
@[reducible] def k3_t133_loop (i : grid3.Coords) (v288 : BitVec 32) (v293 : BitVec 32) : Scf.Loop 32 :=
  let c256_i32_752 : BitVec 32 := 256#32
  let c0_i32_751 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let c256_i32_755 : BitVec 32 := 256#32
  let c0_i32_754 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c512_i32_753 : BitVec 32 := 512#32
  let v1235 : BitVec 32 := Scalar.subi v296 c512_i32_753
  let v1236 : BitVec 32 := Scalar.maxsi c0_i32_754 v1235
  let v1237 : BitVec 32 := Scalar.minsi c256_i32_755 v1236
  let v1805 : BitVec 32 := Scalar.subi v1237 v1234
  let c1_i32_1195 : BitVec 32 := 1#32
  let v1807 : BitVec 32 := Scalar.divsi v1805 c1_i32_1195
  let v1808 : BitVec 32 := Scalar.muli v1807 c1_i32_1195
  let v1809 : BitVec 32 := Scalar.addi v1234 v1808
  let c1_i32_1196 : BitVec 32 := 1#32
  ⟨v1234, v1809, c1_i32_1196⟩
def k3_cond67 (i : grid3.Coords) (v288 : BitVec 32) (v293 : BitVec 32) : BitVec 1 :=
  let c256_i32_755 : BitVec 32 := 256#32
  let c0_i32_754 : BitVec 32 := 0#32
  let c1024_i32_123 : BitVec 32 := 1024#32
  let c0_i32_122 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v294 : BitVec 32 := Scalar.subi v293 v3
  let v295 : BitVec 32 := Scalar.maxsi c0_i32_122 v294
  let v296 : BitVec 32 := Scalar.minsi c1024_i32_123 v295
  let c512_i32_753 : BitVec 32 := 512#32
  let v1235 : BitVec 32 := Scalar.subi v296 c512_i32_753
  let v1236 : BitVec 32 := Scalar.maxsi c0_i32_754 v1235
  let v1237 : BitVec 32 := Scalar.minsi c256_i32_755 v1236
  let c256_i32_752 : BitVec 32 := 256#32
  let c0_i32_751 : BitVec 32 := 0#32
  let c1024_i32_121 : BitVec 32 := 1024#32
  let c0_i32_120 : BitVec 32 := 0#32
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let v1238 : BitVec 1 := Scalar.cmpi .sgt v1237 v1234
  let v1239 : BitVec 32 := Scalar.extui v1238
  let c0_i32_756 : BitVec 32 := 0#32
  let v1240 : BitVec 1 := Scalar.cmpi .ne v1239 c0_i32_756
  v1240

def k3_off531 (i : grid3.Coords) (v288 : BitVec 32) (v293 : BitVec 32) (k3_t133 : Fin (k3_t133_loop i v288 v293).trips) : Fin 2 → Nat :=
  let c256_i32_752 : BitVec 32 := 256#32
  let c0_i32_751 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let c1_i32_1196 : BitVec 32 := 1#32
  let arg13 : BitVec 32 := Scf.iv v1234 c1_i32_1196 k3_t133
  let v1828 : Index := Scalar.indexCast arg13
  let c0_1206 : Index := 0#32
  ![v1828.toNat, 0]
def k3_off532 (i : grid3.Coords) (v288 : BitVec 32) (v293 : BitVec 32) (k3_t133 : Fin (k3_t133_loop i v288 v293).trips) : Fin 2 → Nat :=
  let c256_i32_752 : BitVec 32 := 256#32
  let c0_i32_751 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let c1_i32_1196 : BitVec 32 := 1#32
  let arg13 : BitVec 32 := Scf.iv v1234 c1_i32_1196 k3_t133
  let v1832 : Index := Scalar.indexCast arg13
  let c16_1207 : Index := 16#32
  ![v1832.toNat, 16]
def k3_off533 (i : grid3.Coords) (v288 : BitVec 32) (v293 : BitVec 32) (k3_t133 : Fin (k3_t133_loop i v288 v293).trips) : Fin 2 → Nat :=
  let c256_i32_752 : BitVec 32 := 256#32
  let c0_i32_751 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let c1_i32_1196 : BitVec 32 := 1#32
  let arg13 : BitVec 32 := Scf.iv v1234 c1_i32_1196 k3_t133
  let v1836 : Index := Scalar.indexCast arg13
  let c32_1208 : Index := 32#32
  ![v1836.toNat, 32]
def k3_off534 (i : grid3.Coords) (v288 : BitVec 32) (v293 : BitVec 32) (k3_t133 : Fin (k3_t133_loop i v288 v293).trips) : Fin 2 → Nat :=
  let c256_i32_752 : BitVec 32 := 256#32
  let c0_i32_751 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let c1_i32_1196 : BitVec 32 := 1#32
  let arg13 : BitVec 32 := Scf.iv v1234 c1_i32_1196 k3_t133
  let v1840 : Index := Scalar.indexCast arg13
  let c48_1209 : Index := 48#32
  ![v1840.toNat, 48]
@[reducible] def k3_t134_loop (i : grid3.Coords) (v288 : BitVec 32) (v293 : BitVec 32) : Scf.Loop 32 :=
  let c256_i32_752 : BitVec 32 := 256#32
  let c0_i32_751 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let c256_i32_755 : BitVec 32 := 256#32
  let c0_i32_754 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c512_i32_753 : BitVec 32 := 512#32
  let v1235 : BitVec 32 := Scalar.subi v296 c512_i32_753
  let v1236 : BitVec 32 := Scalar.maxsi c0_i32_754 v1235
  let v1237 : BitVec 32 := Scalar.minsi c256_i32_755 v1236
  let v1805 : BitVec 32 := Scalar.subi v1237 v1234
  let c1_i32_1195 : BitVec 32 := 1#32
  let v1807 : BitVec 32 := Scalar.divsi v1805 c1_i32_1195
  let v1808 : BitVec 32 := Scalar.muli v1807 c1_i32_1195
  let v1809 : BitVec 32 := Scalar.addi v1234 v1808
  let v1806 : BitVec 32 := Scalar.addi v1234 v1805
  let c1_i32_1197 : BitVec 32 := 1#32
  ⟨v1809, v1806, c1_i32_1197⟩
def k3_off535 (i : grid3.Coords) (v288 : BitVec 32) (v293 : BitVec 32) (k3_t134 : Fin (k3_t134_loop i v288 v293).trips) : Fin 2 → Nat :=
  let c256_i32_752 : BitVec 32 := 256#32
  let c0_i32_751 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let c256_i32_755 : BitVec 32 := 256#32
  let c0_i32_754 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c512_i32_753 : BitVec 32 := 512#32
  let v1235 : BitVec 32 := Scalar.subi v296 c512_i32_753
  let v1236 : BitVec 32 := Scalar.maxsi c0_i32_754 v1235
  let v1237 : BitVec 32 := Scalar.minsi c256_i32_755 v1236
  let v1805 : BitVec 32 := Scalar.subi v1237 v1234
  let c1_i32_1195 : BitVec 32 := 1#32
  let v1807 : BitVec 32 := Scalar.divsi v1805 c1_i32_1195
  let v1808 : BitVec 32 := Scalar.muli v1807 c1_i32_1195
  let v1809 : BitVec 32 := Scalar.addi v1234 v1808
  let c1_i32_1197 : BitVec 32 := 1#32
  let arg13 : BitVec 32 := Scf.iv v1809 c1_i32_1197 k3_t134
  let v1828 : Index := Scalar.indexCast arg13
  let c0_1206 : Index := 0#32
  ![v1828.toNat, 0]
def k3_off536 (i : grid3.Coords) (v288 : BitVec 32) (v293 : BitVec 32) (k3_t134 : Fin (k3_t134_loop i v288 v293).trips) : Fin 2 → Nat :=
  let c256_i32_752 : BitVec 32 := 256#32
  let c0_i32_751 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let c256_i32_755 : BitVec 32 := 256#32
  let c0_i32_754 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c512_i32_753 : BitVec 32 := 512#32
  let v1235 : BitVec 32 := Scalar.subi v296 c512_i32_753
  let v1236 : BitVec 32 := Scalar.maxsi c0_i32_754 v1235
  let v1237 : BitVec 32 := Scalar.minsi c256_i32_755 v1236
  let v1805 : BitVec 32 := Scalar.subi v1237 v1234
  let c1_i32_1195 : BitVec 32 := 1#32
  let v1807 : BitVec 32 := Scalar.divsi v1805 c1_i32_1195
  let v1808 : BitVec 32 := Scalar.muli v1807 c1_i32_1195
  let v1809 : BitVec 32 := Scalar.addi v1234 v1808
  let c1_i32_1197 : BitVec 32 := 1#32
  let arg13 : BitVec 32 := Scf.iv v1809 c1_i32_1197 k3_t134
  let v1832 : Index := Scalar.indexCast arg13
  let c16_1207 : Index := 16#32
  ![v1832.toNat, 16]
def k3_off537 (i : grid3.Coords) (v288 : BitVec 32) (v293 : BitVec 32) (k3_t134 : Fin (k3_t134_loop i v288 v293).trips) : Fin 2 → Nat :=
  let c256_i32_752 : BitVec 32 := 256#32
  let c0_i32_751 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let c256_i32_755 : BitVec 32 := 256#32
  let c0_i32_754 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c512_i32_753 : BitVec 32 := 512#32
  let v1235 : BitVec 32 := Scalar.subi v296 c512_i32_753
  let v1236 : BitVec 32 := Scalar.maxsi c0_i32_754 v1235
  let v1237 : BitVec 32 := Scalar.minsi c256_i32_755 v1236
  let v1805 : BitVec 32 := Scalar.subi v1237 v1234
  let c1_i32_1195 : BitVec 32 := 1#32
  let v1807 : BitVec 32 := Scalar.divsi v1805 c1_i32_1195
  let v1808 : BitVec 32 := Scalar.muli v1807 c1_i32_1195
  let v1809 : BitVec 32 := Scalar.addi v1234 v1808
  let c1_i32_1197 : BitVec 32 := 1#32
  let arg13 : BitVec 32 := Scf.iv v1809 c1_i32_1197 k3_t134
  let v1836 : Index := Scalar.indexCast arg13
  let c32_1208 : Index := 32#32
  ![v1836.toNat, 32]
def k3_off538 (i : grid3.Coords) (v288 : BitVec 32) (v293 : BitVec 32) (k3_t134 : Fin (k3_t134_loop i v288 v293).trips) : Fin 2 → Nat :=
  let c256_i32_752 : BitVec 32 := 256#32
  let c0_i32_751 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c512_i32_750 : BitVec 32 := 512#32
  let v1232 : BitVec 32 := Scalar.subi v291 c512_i32_750
  let v1233 : BitVec 32 := Scalar.maxsi c0_i32_751 v1232
  let v1234 : BitVec 32 := Scalar.minsi c256_i32_752 v1233
  let c256_i32_755 : BitVec 32 := 256#32
  let c0_i32_754 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c512_i32_753 : BitVec 32 := 512#32
  let v1235 : BitVec 32 := Scalar.subi v296 c512_i32_753
  let v1236 : BitVec 32 := Scalar.maxsi c0_i32_754 v1235
  let v1237 : BitVec 32 := Scalar.minsi c256_i32_755 v1236
  let v1805 : BitVec 32 := Scalar.subi v1237 v1234
  let c1_i32_1195 : BitVec 32 := 1#32
  let v1807 : BitVec 32 := Scalar.divsi v1805 c1_i32_1195
  let v1808 : BitVec 32 := Scalar.muli v1807 c1_i32_1195
  let v1809 : BitVec 32 := Scalar.addi v1234 v1808
  let c1_i32_1197 : BitVec 32 := 1#32
  let arg13 : BitVec 32 := Scf.iv v1809 c1_i32_1197 k3_t134
  let v1840 : Index := Scalar.indexCast arg13
  let c48_1209 : Index := 48#32
  ![v1840.toNat, 48]
@[reducible] def k3_t135_loop (i : grid3.Coords) (v298 : BitVec 32) (v304 : BitVec 32) : Scf.Loop 32 :=
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let c256_i32_762 : BitVec 32 := 256#32
  let c0_i32_761 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c512_i32_760 : BitVec 32 := 512#32
  let v1244 : BitVec 32 := Scalar.subi v308 c512_i32_760
  let v1245 : BitVec 32 := Scalar.maxsi c0_i32_761 v1244
  let v1246 : BitVec 32 := Scalar.minsi c256_i32_762 v1245
  let v1805 : BitVec 32 := Scalar.subi v1246 v1243
  let c1_i32_1195 : BitVec 32 := 1#32
  let v1807 : BitVec 32 := Scalar.divsi v1805 c1_i32_1195
  let v1808 : BitVec 32 := Scalar.muli v1807 c1_i32_1195
  let v1809 : BitVec 32 := Scalar.addi v1243 v1808
  let c1_i32_1196 : BitVec 32 := 1#32
  ⟨v1243, v1809, c1_i32_1196⟩
def k3_cond68 (i : grid3.Coords) (v298 : BitVec 32) (v304 : BitVec 32) : BitVec 1 :=
  let c256_i32_762 : BitVec 32 := 256#32
  let c0_i32_761 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v306 : BitVec 32 := Scalar.subi v305 v3
  let v307 : BitVec 32 := Scalar.maxsi c0_i32_128 v306
  let v308 : BitVec 32 := Scalar.minsi c1024_i32_129 v307
  let c512_i32_760 : BitVec 32 := 512#32
  let v1244 : BitVec 32 := Scalar.subi v308 c512_i32_760
  let v1245 : BitVec 32 := Scalar.maxsi c0_i32_761 v1244
  let v1246 : BitVec 32 := Scalar.minsi c256_i32_762 v1245
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let v1247 : BitVec 1 := Scalar.cmpi .sgt v1246 v1243
  let v1248 : BitVec 32 := Scalar.extui v1247
  let c0_i32_763 : BitVec 32 := 0#32
  let v1249 : BitVec 1 := Scalar.cmpi .ne v1248 c0_i32_763
  v1249

def k3_off539 (i : grid3.Coords) (v298 : BitVec 32) (v304 : BitVec 32) (k3_t135 : Fin (k3_t135_loop i v298 v304).trips) : Fin 2 → Nat :=
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let c1_i32_1196 : BitVec 32 := 1#32
  let arg13 : BitVec 32 := Scf.iv v1243 c1_i32_1196 k3_t135
  let v1828 : Index := Scalar.indexCast arg13
  let c64 : Index := 64#32
  ![v1828.toNat, 64]
def k3_off540 (i : grid3.Coords) (v298 : BitVec 32) (v304 : BitVec 32) (k3_t135 : Fin (k3_t135_loop i v298 v304).trips) : Fin 2 → Nat :=
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let c1_i32_1196 : BitVec 32 := 1#32
  let arg13 : BitVec 32 := Scf.iv v1243 c1_i32_1196 k3_t135
  let v1832 : Index := Scalar.indexCast arg13
  let c80 : Index := 80#32
  ![v1832.toNat, 80]
def k3_off541 (i : grid3.Coords) (v298 : BitVec 32) (v304 : BitVec 32) (k3_t135 : Fin (k3_t135_loop i v298 v304).trips) : Fin 2 → Nat :=
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let c1_i32_1196 : BitVec 32 := 1#32
  let arg13 : BitVec 32 := Scf.iv v1243 c1_i32_1196 k3_t135
  let v1836 : Index := Scalar.indexCast arg13
  let c96 : Index := 96#32
  ![v1836.toNat, 96]
def k3_off542 (i : grid3.Coords) (v298 : BitVec 32) (v304 : BitVec 32) (k3_t135 : Fin (k3_t135_loop i v298 v304).trips) : Fin 2 → Nat :=
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let c1_i32_1196 : BitVec 32 := 1#32
  let arg13 : BitVec 32 := Scf.iv v1243 c1_i32_1196 k3_t135
  let v1840 : Index := Scalar.indexCast arg13
  let c112 : Index := 112#32
  ![v1840.toNat, 112]
@[reducible] def k3_t136_loop (i : grid3.Coords) (v298 : BitVec 32) (v304 : BitVec 32) : Scf.Loop 32 :=
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let c256_i32_762 : BitVec 32 := 256#32
  let c0_i32_761 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c512_i32_760 : BitVec 32 := 512#32
  let v1244 : BitVec 32 := Scalar.subi v308 c512_i32_760
  let v1245 : BitVec 32 := Scalar.maxsi c0_i32_761 v1244
  let v1246 : BitVec 32 := Scalar.minsi c256_i32_762 v1245
  let v1805 : BitVec 32 := Scalar.subi v1246 v1243
  let c1_i32_1195 : BitVec 32 := 1#32
  let v1807 : BitVec 32 := Scalar.divsi v1805 c1_i32_1195
  let v1808 : BitVec 32 := Scalar.muli v1807 c1_i32_1195
  let v1809 : BitVec 32 := Scalar.addi v1243 v1808
  let v1806 : BitVec 32 := Scalar.addi v1243 v1805
  let c1_i32_1197 : BitVec 32 := 1#32
  ⟨v1809, v1806, c1_i32_1197⟩
def k3_off543 (i : grid3.Coords) (v298 : BitVec 32) (v304 : BitVec 32) (k3_t136 : Fin (k3_t136_loop i v298 v304).trips) : Fin 2 → Nat :=
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let c256_i32_762 : BitVec 32 := 256#32
  let c0_i32_761 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c512_i32_760 : BitVec 32 := 512#32
  let v1244 : BitVec 32 := Scalar.subi v308 c512_i32_760
  let v1245 : BitVec 32 := Scalar.maxsi c0_i32_761 v1244
  let v1246 : BitVec 32 := Scalar.minsi c256_i32_762 v1245
  let v1805 : BitVec 32 := Scalar.subi v1246 v1243
  let c1_i32_1195 : BitVec 32 := 1#32
  let v1807 : BitVec 32 := Scalar.divsi v1805 c1_i32_1195
  let v1808 : BitVec 32 := Scalar.muli v1807 c1_i32_1195
  let v1809 : BitVec 32 := Scalar.addi v1243 v1808
  let c1_i32_1197 : BitVec 32 := 1#32
  let arg13 : BitVec 32 := Scf.iv v1809 c1_i32_1197 k3_t136
  let v1828 : Index := Scalar.indexCast arg13
  let c64 : Index := 64#32
  ![v1828.toNat, 64]
def k3_off544 (i : grid3.Coords) (v298 : BitVec 32) (v304 : BitVec 32) (k3_t136 : Fin (k3_t136_loop i v298 v304).trips) : Fin 2 → Nat :=
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let c256_i32_762 : BitVec 32 := 256#32
  let c0_i32_761 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c512_i32_760 : BitVec 32 := 512#32
  let v1244 : BitVec 32 := Scalar.subi v308 c512_i32_760
  let v1245 : BitVec 32 := Scalar.maxsi c0_i32_761 v1244
  let v1246 : BitVec 32 := Scalar.minsi c256_i32_762 v1245
  let v1805 : BitVec 32 := Scalar.subi v1246 v1243
  let c1_i32_1195 : BitVec 32 := 1#32
  let v1807 : BitVec 32 := Scalar.divsi v1805 c1_i32_1195
  let v1808 : BitVec 32 := Scalar.muli v1807 c1_i32_1195
  let v1809 : BitVec 32 := Scalar.addi v1243 v1808
  let c1_i32_1197 : BitVec 32 := 1#32
  let arg13 : BitVec 32 := Scf.iv v1809 c1_i32_1197 k3_t136
  let v1832 : Index := Scalar.indexCast arg13
  let c80 : Index := 80#32
  ![v1832.toNat, 80]
def k3_off545 (i : grid3.Coords) (v298 : BitVec 32) (v304 : BitVec 32) (k3_t136 : Fin (k3_t136_loop i v298 v304).trips) : Fin 2 → Nat :=
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let c256_i32_762 : BitVec 32 := 256#32
  let c0_i32_761 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c512_i32_760 : BitVec 32 := 512#32
  let v1244 : BitVec 32 := Scalar.subi v308 c512_i32_760
  let v1245 : BitVec 32 := Scalar.maxsi c0_i32_761 v1244
  let v1246 : BitVec 32 := Scalar.minsi c256_i32_762 v1245
  let v1805 : BitVec 32 := Scalar.subi v1246 v1243
  let c1_i32_1195 : BitVec 32 := 1#32
  let v1807 : BitVec 32 := Scalar.divsi v1805 c1_i32_1195
  let v1808 : BitVec 32 := Scalar.muli v1807 c1_i32_1195
  let v1809 : BitVec 32 := Scalar.addi v1243 v1808
  let c1_i32_1197 : BitVec 32 := 1#32
  let arg13 : BitVec 32 := Scf.iv v1809 c1_i32_1197 k3_t136
  let v1836 : Index := Scalar.indexCast arg13
  let c96 : Index := 96#32
  ![v1836.toNat, 96]
def k3_off546 (i : grid3.Coords) (v298 : BitVec 32) (v304 : BitVec 32) (k3_t136 : Fin (k3_t136_loop i v298 v304).trips) : Fin 2 → Nat :=
  let c256_i32_759 : BitVec 32 := 256#32
  let c0_i32_758 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c512_i32_757 : BitVec 32 := 512#32
  let v1241 : BitVec 32 := Scalar.subi v302 c512_i32_757
  let v1242 : BitVec 32 := Scalar.maxsi c0_i32_758 v1241
  let v1243 : BitVec 32 := Scalar.minsi c256_i32_759 v1242
  let c256_i32_762 : BitVec 32 := 256#32
  let c0_i32_761 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c512_i32_760 : BitVec 32 := 512#32
  let v1244 : BitVec 32 := Scalar.subi v308 c512_i32_760
  let v1245 : BitVec 32 := Scalar.maxsi c0_i32_761 v1244
  let v1246 : BitVec 32 := Scalar.minsi c256_i32_762 v1245
  let v1805 : BitVec 32 := Scalar.subi v1246 v1243
  let c1_i32_1195 : BitVec 32 := 1#32
  let v1807 : BitVec 32 := Scalar.divsi v1805 c1_i32_1195
  let v1808 : BitVec 32 := Scalar.muli v1807 c1_i32_1195
  let v1809 : BitVec 32 := Scalar.addi v1243 v1808
  let c1_i32_1197 : BitVec 32 := 1#32
  let arg13 : BitVec 32 := Scf.iv v1809 c1_i32_1197 k3_t136
  let v1840 : Index := Scalar.indexCast arg13
  let c112 : Index := 112#32
  ![v1840.toNat, 112]
@[reducible] def k3_t137_loop (i : grid3.Coords) (v310 : BitVec 32) (v315 : BitVec 32) : Scf.Loop 32 :=
  let c256_i32_766 : BitVec 32 := 256#32
  let c0_i32_765 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let c256_i32_769 : BitVec 32 := 256#32
  let c0_i32_768 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c512_i32_767 : BitVec 32 := 512#32
  let v1253 : BitVec 32 := Scalar.subi v318 c512_i32_767
  let v1254 : BitVec 32 := Scalar.maxsi c0_i32_768 v1253
  let v1255 : BitVec 32 := Scalar.minsi c256_i32_769 v1254
  let v1805 : BitVec 32 := Scalar.subi v1255 v1252
  let c1_i32_1195 : BitVec 32 := 1#32
  let v1807 : BitVec 32 := Scalar.divsi v1805 c1_i32_1195
  let v1808 : BitVec 32 := Scalar.muli v1807 c1_i32_1195
  let v1809 : BitVec 32 := Scalar.addi v1252 v1808
  let c1_i32_1196 : BitVec 32 := 1#32
  ⟨v1252, v1809, c1_i32_1196⟩
def k3_cond69 (i : grid3.Coords) (v310 : BitVec 32) (v315 : BitVec 32) : BitVec 1 :=
  let c256_i32_769 : BitVec 32 := 256#32
  let c0_i32_768 : BitVec 32 := 0#32
  let c1024_i32_133 : BitVec 32 := 1024#32
  let c0_i32_132 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v316 : BitVec 32 := Scalar.subi v315 v3
  let v317 : BitVec 32 := Scalar.maxsi c0_i32_132 v316
  let v318 : BitVec 32 := Scalar.minsi c1024_i32_133 v317
  let c512_i32_767 : BitVec 32 := 512#32
  let v1253 : BitVec 32 := Scalar.subi v318 c512_i32_767
  let v1254 : BitVec 32 := Scalar.maxsi c0_i32_768 v1253
  let v1255 : BitVec 32 := Scalar.minsi c256_i32_769 v1254
  let c256_i32_766 : BitVec 32 := 256#32
  let c0_i32_765 : BitVec 32 := 0#32
  let c1024_i32_131 : BitVec 32 := 1024#32
  let c0_i32_130 : BitVec 32 := 0#32
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let v1256 : BitVec 1 := Scalar.cmpi .sgt v1255 v1252
  let v1257 : BitVec 32 := Scalar.extui v1256
  let c0_i32_770 : BitVec 32 := 0#32
  let v1258 : BitVec 1 := Scalar.cmpi .ne v1257 c0_i32_770
  v1258

def k3_off547 (i : grid3.Coords) (v310 : BitVec 32) (v315 : BitVec 32) (k3_t137 : Fin (k3_t137_loop i v310 v315).trips) : Fin 2 → Nat :=
  let c256_i32_766 : BitVec 32 := 256#32
  let c0_i32_765 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let c1_i32_1196 : BitVec 32 := 1#32
  let arg13 : BitVec 32 := Scf.iv v1252 c1_i32_1196 k3_t137
  let v1828 : Index := Scalar.indexCast arg13
  let c0_1206 : Index := 0#32
  ![v1828.toNat, 0]
def k3_off548 (i : grid3.Coords) (v310 : BitVec 32) (v315 : BitVec 32) (k3_t137 : Fin (k3_t137_loop i v310 v315).trips) : Fin 2 → Nat :=
  let c256_i32_766 : BitVec 32 := 256#32
  let c0_i32_765 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let c1_i32_1196 : BitVec 32 := 1#32
  let arg13 : BitVec 32 := Scf.iv v1252 c1_i32_1196 k3_t137
  let v1832 : Index := Scalar.indexCast arg13
  let c16_1207 : Index := 16#32
  ![v1832.toNat, 16]
def k3_off549 (i : grid3.Coords) (v310 : BitVec 32) (v315 : BitVec 32) (k3_t137 : Fin (k3_t137_loop i v310 v315).trips) : Fin 2 → Nat :=
  let c256_i32_766 : BitVec 32 := 256#32
  let c0_i32_765 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let c1_i32_1196 : BitVec 32 := 1#32
  let arg13 : BitVec 32 := Scf.iv v1252 c1_i32_1196 k3_t137
  let v1836 : Index := Scalar.indexCast arg13
  let c32_1208 : Index := 32#32
  ![v1836.toNat, 32]
def k3_off550 (i : grid3.Coords) (v310 : BitVec 32) (v315 : BitVec 32) (k3_t137 : Fin (k3_t137_loop i v310 v315).trips) : Fin 2 → Nat :=
  let c256_i32_766 : BitVec 32 := 256#32
  let c0_i32_765 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let c1_i32_1196 : BitVec 32 := 1#32
  let arg13 : BitVec 32 := Scf.iv v1252 c1_i32_1196 k3_t137
  let v1840 : Index := Scalar.indexCast arg13
  let c48_1209 : Index := 48#32
  ![v1840.toNat, 48]
@[reducible] def k3_t138_loop (i : grid3.Coords) (v310 : BitVec 32) (v315 : BitVec 32) : Scf.Loop 32 :=
  let c256_i32_766 : BitVec 32 := 256#32
  let c0_i32_765 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let c256_i32_769 : BitVec 32 := 256#32
  let c0_i32_768 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c512_i32_767 : BitVec 32 := 512#32
  let v1253 : BitVec 32 := Scalar.subi v318 c512_i32_767
  let v1254 : BitVec 32 := Scalar.maxsi c0_i32_768 v1253
  let v1255 : BitVec 32 := Scalar.minsi c256_i32_769 v1254
  let v1805 : BitVec 32 := Scalar.subi v1255 v1252
  let c1_i32_1195 : BitVec 32 := 1#32
  let v1807 : BitVec 32 := Scalar.divsi v1805 c1_i32_1195
  let v1808 : BitVec 32 := Scalar.muli v1807 c1_i32_1195
  let v1809 : BitVec 32 := Scalar.addi v1252 v1808
  let v1806 : BitVec 32 := Scalar.addi v1252 v1805
  let c1_i32_1197 : BitVec 32 := 1#32
  ⟨v1809, v1806, c1_i32_1197⟩
def k3_off551 (i : grid3.Coords) (v310 : BitVec 32) (v315 : BitVec 32) (k3_t138 : Fin (k3_t138_loop i v310 v315).trips) : Fin 2 → Nat :=
  let c256_i32_766 : BitVec 32 := 256#32
  let c0_i32_765 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let c256_i32_769 : BitVec 32 := 256#32
  let c0_i32_768 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c512_i32_767 : BitVec 32 := 512#32
  let v1253 : BitVec 32 := Scalar.subi v318 c512_i32_767
  let v1254 : BitVec 32 := Scalar.maxsi c0_i32_768 v1253
  let v1255 : BitVec 32 := Scalar.minsi c256_i32_769 v1254
  let v1805 : BitVec 32 := Scalar.subi v1255 v1252
  let c1_i32_1195 : BitVec 32 := 1#32
  let v1807 : BitVec 32 := Scalar.divsi v1805 c1_i32_1195
  let v1808 : BitVec 32 := Scalar.muli v1807 c1_i32_1195
  let v1809 : BitVec 32 := Scalar.addi v1252 v1808
  let c1_i32_1197 : BitVec 32 := 1#32
  let arg13 : BitVec 32 := Scf.iv v1809 c1_i32_1197 k3_t138
  let v1828 : Index := Scalar.indexCast arg13
  let c0_1206 : Index := 0#32
  ![v1828.toNat, 0]
def k3_off552 (i : grid3.Coords) (v310 : BitVec 32) (v315 : BitVec 32) (k3_t138 : Fin (k3_t138_loop i v310 v315).trips) : Fin 2 → Nat :=
  let c256_i32_766 : BitVec 32 := 256#32
  let c0_i32_765 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let c256_i32_769 : BitVec 32 := 256#32
  let c0_i32_768 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c512_i32_767 : BitVec 32 := 512#32
  let v1253 : BitVec 32 := Scalar.subi v318 c512_i32_767
  let v1254 : BitVec 32 := Scalar.maxsi c0_i32_768 v1253
  let v1255 : BitVec 32 := Scalar.minsi c256_i32_769 v1254
  let v1805 : BitVec 32 := Scalar.subi v1255 v1252
  let c1_i32_1195 : BitVec 32 := 1#32
  let v1807 : BitVec 32 := Scalar.divsi v1805 c1_i32_1195
  let v1808 : BitVec 32 := Scalar.muli v1807 c1_i32_1195
  let v1809 : BitVec 32 := Scalar.addi v1252 v1808
  let c1_i32_1197 : BitVec 32 := 1#32
  let arg13 : BitVec 32 := Scf.iv v1809 c1_i32_1197 k3_t138
  let v1832 : Index := Scalar.indexCast arg13
  let c16_1207 : Index := 16#32
  ![v1832.toNat, 16]
def k3_off553 (i : grid3.Coords) (v310 : BitVec 32) (v315 : BitVec 32) (k3_t138 : Fin (k3_t138_loop i v310 v315).trips) : Fin 2 → Nat :=
  let c256_i32_766 : BitVec 32 := 256#32
  let c0_i32_765 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let c256_i32_769 : BitVec 32 := 256#32
  let c0_i32_768 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c512_i32_767 : BitVec 32 := 512#32
  let v1253 : BitVec 32 := Scalar.subi v318 c512_i32_767
  let v1254 : BitVec 32 := Scalar.maxsi c0_i32_768 v1253
  let v1255 : BitVec 32 := Scalar.minsi c256_i32_769 v1254
  let v1805 : BitVec 32 := Scalar.subi v1255 v1252
  let c1_i32_1195 : BitVec 32 := 1#32
  let v1807 : BitVec 32 := Scalar.divsi v1805 c1_i32_1195
  let v1808 : BitVec 32 := Scalar.muli v1807 c1_i32_1195
  let v1809 : BitVec 32 := Scalar.addi v1252 v1808
  let c1_i32_1197 : BitVec 32 := 1#32
  let arg13 : BitVec 32 := Scf.iv v1809 c1_i32_1197 k3_t138
  let v1836 : Index := Scalar.indexCast arg13
  let c32_1208 : Index := 32#32
  ![v1836.toNat, 32]
def k3_off554 (i : grid3.Coords) (v310 : BitVec 32) (v315 : BitVec 32) (k3_t138 : Fin (k3_t138_loop i v310 v315).trips) : Fin 2 → Nat :=
  let c256_i32_766 : BitVec 32 := 256#32
  let c0_i32_765 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c512_i32_764 : BitVec 32 := 512#32
  let v1250 : BitVec 32 := Scalar.subi v313 c512_i32_764
  let v1251 : BitVec 32 := Scalar.maxsi c0_i32_765 v1250
  let v1252 : BitVec 32 := Scalar.minsi c256_i32_766 v1251
  let c256_i32_769 : BitVec 32 := 256#32
  let c0_i32_768 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c512_i32_767 : BitVec 32 := 512#32
  let v1253 : BitVec 32 := Scalar.subi v318 c512_i32_767
  let v1254 : BitVec 32 := Scalar.maxsi c0_i32_768 v1253
  let v1255 : BitVec 32 := Scalar.minsi c256_i32_769 v1254
  let v1805 : BitVec 32 := Scalar.subi v1255 v1252
  let c1_i32_1195 : BitVec 32 := 1#32
  let v1807 : BitVec 32 := Scalar.divsi v1805 c1_i32_1195
  let v1808 : BitVec 32 := Scalar.muli v1807 c1_i32_1195
  let v1809 : BitVec 32 := Scalar.addi v1252 v1808
  let c1_i32_1197 : BitVec 32 := 1#32
  let arg13 : BitVec 32 := Scf.iv v1809 c1_i32_1197 k3_t138
  let v1840 : Index := Scalar.indexCast arg13
  let c48_1209 : Index := 48#32
  ![v1840.toNat, 48]
@[reducible] def k3_t139_loop (i : grid3.Coords) (v320 : BitVec 32) (v326 : BitVec 32) : Scf.Loop 32 :=
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let c256_i32_776 : BitVec 32 := 256#32
  let c0_i32_775 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c512_i32_774 : BitVec 32 := 512#32
  let v1262 : BitVec 32 := Scalar.subi v330 c512_i32_774
  let v1263 : BitVec 32 := Scalar.maxsi c0_i32_775 v1262
  let v1264 : BitVec 32 := Scalar.minsi c256_i32_776 v1263
  let v1805 : BitVec 32 := Scalar.subi v1264 v1261
  let c1_i32_1195 : BitVec 32 := 1#32
  let v1807 : BitVec 32 := Scalar.divsi v1805 c1_i32_1195
  let v1808 : BitVec 32 := Scalar.muli v1807 c1_i32_1195
  let v1809 : BitVec 32 := Scalar.addi v1261 v1808
  let c1_i32_1196 : BitVec 32 := 1#32
  ⟨v1261, v1809, c1_i32_1196⟩
def k3_cond70 (i : grid3.Coords) (v320 : BitVec 32) (v326 : BitVec 32) : BitVec 1 :=
  let c256_i32_776 : BitVec 32 := 256#32
  let c0_i32_775 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v328 : BitVec 32 := Scalar.subi v327 v3
  let v329 : BitVec 32 := Scalar.maxsi c0_i32_138 v328
  let v330 : BitVec 32 := Scalar.minsi c1024_i32_139 v329
  let c512_i32_774 : BitVec 32 := 512#32
  let v1262 : BitVec 32 := Scalar.subi v330 c512_i32_774
  let v1263 : BitVec 32 := Scalar.maxsi c0_i32_775 v1262
  let v1264 : BitVec 32 := Scalar.minsi c256_i32_776 v1263
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let v1265 : BitVec 1 := Scalar.cmpi .sgt v1264 v1261
  let v1266 : BitVec 32 := Scalar.extui v1265
  let c0_i32_777 : BitVec 32 := 0#32
  let v1267 : BitVec 1 := Scalar.cmpi .ne v1266 c0_i32_777
  v1267

def k3_off555 (i : grid3.Coords) (v320 : BitVec 32) (v326 : BitVec 32) (k3_t139 : Fin (k3_t139_loop i v320 v326).trips) : Fin 2 → Nat :=
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let c1_i32_1196 : BitVec 32 := 1#32
  let arg13 : BitVec 32 := Scf.iv v1261 c1_i32_1196 k3_t139
  let v1828 : Index := Scalar.indexCast arg13
  let c64 : Index := 64#32
  ![v1828.toNat, 64]
def k3_off556 (i : grid3.Coords) (v320 : BitVec 32) (v326 : BitVec 32) (k3_t139 : Fin (k3_t139_loop i v320 v326).trips) : Fin 2 → Nat :=
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let c1_i32_1196 : BitVec 32 := 1#32
  let arg13 : BitVec 32 := Scf.iv v1261 c1_i32_1196 k3_t139
  let v1832 : Index := Scalar.indexCast arg13
  let c80 : Index := 80#32
  ![v1832.toNat, 80]
def k3_off557 (i : grid3.Coords) (v320 : BitVec 32) (v326 : BitVec 32) (k3_t139 : Fin (k3_t139_loop i v320 v326).trips) : Fin 2 → Nat :=
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let c1_i32_1196 : BitVec 32 := 1#32
  let arg13 : BitVec 32 := Scf.iv v1261 c1_i32_1196 k3_t139
  let v1836 : Index := Scalar.indexCast arg13
  let c96 : Index := 96#32
  ![v1836.toNat, 96]
def k3_off558 (i : grid3.Coords) (v320 : BitVec 32) (v326 : BitVec 32) (k3_t139 : Fin (k3_t139_loop i v320 v326).trips) : Fin 2 → Nat :=
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let c1_i32_1196 : BitVec 32 := 1#32
  let arg13 : BitVec 32 := Scf.iv v1261 c1_i32_1196 k3_t139
  let v1840 : Index := Scalar.indexCast arg13
  let c112 : Index := 112#32
  ![v1840.toNat, 112]
@[reducible] def k3_t140_loop (i : grid3.Coords) (v320 : BitVec 32) (v326 : BitVec 32) : Scf.Loop 32 :=
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let c256_i32_776 : BitVec 32 := 256#32
  let c0_i32_775 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c512_i32_774 : BitVec 32 := 512#32
  let v1262 : BitVec 32 := Scalar.subi v330 c512_i32_774
  let v1263 : BitVec 32 := Scalar.maxsi c0_i32_775 v1262
  let v1264 : BitVec 32 := Scalar.minsi c256_i32_776 v1263
  let v1805 : BitVec 32 := Scalar.subi v1264 v1261
  let c1_i32_1195 : BitVec 32 := 1#32
  let v1807 : BitVec 32 := Scalar.divsi v1805 c1_i32_1195
  let v1808 : BitVec 32 := Scalar.muli v1807 c1_i32_1195
  let v1809 : BitVec 32 := Scalar.addi v1261 v1808
  let v1806 : BitVec 32 := Scalar.addi v1261 v1805
  let c1_i32_1197 : BitVec 32 := 1#32
  ⟨v1809, v1806, c1_i32_1197⟩
def k3_off559 (i : grid3.Coords) (v320 : BitVec 32) (v326 : BitVec 32) (k3_t140 : Fin (k3_t140_loop i v320 v326).trips) : Fin 2 → Nat :=
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let c256_i32_776 : BitVec 32 := 256#32
  let c0_i32_775 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c512_i32_774 : BitVec 32 := 512#32
  let v1262 : BitVec 32 := Scalar.subi v330 c512_i32_774
  let v1263 : BitVec 32 := Scalar.maxsi c0_i32_775 v1262
  let v1264 : BitVec 32 := Scalar.minsi c256_i32_776 v1263
  let v1805 : BitVec 32 := Scalar.subi v1264 v1261
  let c1_i32_1195 : BitVec 32 := 1#32
  let v1807 : BitVec 32 := Scalar.divsi v1805 c1_i32_1195
  let v1808 : BitVec 32 := Scalar.muli v1807 c1_i32_1195
  let v1809 : BitVec 32 := Scalar.addi v1261 v1808
  let c1_i32_1197 : BitVec 32 := 1#32
  let arg13 : BitVec 32 := Scf.iv v1809 c1_i32_1197 k3_t140
  let v1828 : Index := Scalar.indexCast arg13
  let c64 : Index := 64#32
  ![v1828.toNat, 64]
def k3_off560 (i : grid3.Coords) (v320 : BitVec 32) (v326 : BitVec 32) (k3_t140 : Fin (k3_t140_loop i v320 v326).trips) : Fin 2 → Nat :=
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let c256_i32_776 : BitVec 32 := 256#32
  let c0_i32_775 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c512_i32_774 : BitVec 32 := 512#32
  let v1262 : BitVec 32 := Scalar.subi v330 c512_i32_774
  let v1263 : BitVec 32 := Scalar.maxsi c0_i32_775 v1262
  let v1264 : BitVec 32 := Scalar.minsi c256_i32_776 v1263
  let v1805 : BitVec 32 := Scalar.subi v1264 v1261
  let c1_i32_1195 : BitVec 32 := 1#32
  let v1807 : BitVec 32 := Scalar.divsi v1805 c1_i32_1195
  let v1808 : BitVec 32 := Scalar.muli v1807 c1_i32_1195
  let v1809 : BitVec 32 := Scalar.addi v1261 v1808
  let c1_i32_1197 : BitVec 32 := 1#32
  let arg13 : BitVec 32 := Scf.iv v1809 c1_i32_1197 k3_t140
  let v1832 : Index := Scalar.indexCast arg13
  let c80 : Index := 80#32
  ![v1832.toNat, 80]
def k3_off561 (i : grid3.Coords) (v320 : BitVec 32) (v326 : BitVec 32) (k3_t140 : Fin (k3_t140_loop i v320 v326).trips) : Fin 2 → Nat :=
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let c256_i32_776 : BitVec 32 := 256#32
  let c0_i32_775 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c512_i32_774 : BitVec 32 := 512#32
  let v1262 : BitVec 32 := Scalar.subi v330 c512_i32_774
  let v1263 : BitVec 32 := Scalar.maxsi c0_i32_775 v1262
  let v1264 : BitVec 32 := Scalar.minsi c256_i32_776 v1263
  let v1805 : BitVec 32 := Scalar.subi v1264 v1261
  let c1_i32_1195 : BitVec 32 := 1#32
  let v1807 : BitVec 32 := Scalar.divsi v1805 c1_i32_1195
  let v1808 : BitVec 32 := Scalar.muli v1807 c1_i32_1195
  let v1809 : BitVec 32 := Scalar.addi v1261 v1808
  let c1_i32_1197 : BitVec 32 := 1#32
  let arg13 : BitVec 32 := Scf.iv v1809 c1_i32_1197 k3_t140
  let v1836 : Index := Scalar.indexCast arg13
  let c96 : Index := 96#32
  ![v1836.toNat, 96]
def k3_off562 (i : grid3.Coords) (v320 : BitVec 32) (v326 : BitVec 32) (k3_t140 : Fin (k3_t140_loop i v320 v326).trips) : Fin 2 → Nat :=
  let c256_i32_773 : BitVec 32 := 256#32
  let c0_i32_772 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c512_i32_771 : BitVec 32 := 512#32
  let v1259 : BitVec 32 := Scalar.subi v324 c512_i32_771
  let v1260 : BitVec 32 := Scalar.maxsi c0_i32_772 v1259
  let v1261 : BitVec 32 := Scalar.minsi c256_i32_773 v1260
  let c256_i32_776 : BitVec 32 := 256#32
  let c0_i32_775 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c512_i32_774 : BitVec 32 := 512#32
  let v1262 : BitVec 32 := Scalar.subi v330 c512_i32_774
  let v1263 : BitVec 32 := Scalar.maxsi c0_i32_775 v1262
  let v1264 : BitVec 32 := Scalar.minsi c256_i32_776 v1263
  let v1805 : BitVec 32 := Scalar.subi v1264 v1261
  let c1_i32_1195 : BitVec 32 := 1#32
  let v1807 : BitVec 32 := Scalar.divsi v1805 c1_i32_1195
  let v1808 : BitVec 32 := Scalar.muli v1807 c1_i32_1195
  let v1809 : BitVec 32 := Scalar.addi v1261 v1808
  let c1_i32_1197 : BitVec 32 := 1#32
  let arg13 : BitVec 32 := Scf.iv v1809 c1_i32_1197 k3_t140
  let v1840 : Index := Scalar.indexCast arg13
  let c112 : Index := 112#32
  ![v1840.toNat, 112]
@[reducible] def k3_t141_loop (i : grid3.Coords) (v332 : BitVec 32) (v337 : BitVec 32) : Scf.Loop 32 :=
  let c256_i32_780 : BitVec 32 := 256#32
  let c0_i32_779 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let c256_i32_783 : BitVec 32 := 256#32
  let c0_i32_782 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c512_i32_781 : BitVec 32 := 512#32
  let v1271 : BitVec 32 := Scalar.subi v340 c512_i32_781
  let v1272 : BitVec 32 := Scalar.maxsi c0_i32_782 v1271
  let v1273 : BitVec 32 := Scalar.minsi c256_i32_783 v1272
  let v1805 : BitVec 32 := Scalar.subi v1273 v1270
  let c1_i32_1195 : BitVec 32 := 1#32
  let v1807 : BitVec 32 := Scalar.divsi v1805 c1_i32_1195
  let v1808 : BitVec 32 := Scalar.muli v1807 c1_i32_1195
  let v1809 : BitVec 32 := Scalar.addi v1270 v1808
  let c1_i32_1196 : BitVec 32 := 1#32
  ⟨v1270, v1809, c1_i32_1196⟩
def k3_cond71 (i : grid3.Coords) (v332 : BitVec 32) (v337 : BitVec 32) : BitVec 1 :=
  let c256_i32_783 : BitVec 32 := 256#32
  let c0_i32_782 : BitVec 32 := 0#32
  let c1024_i32_143 : BitVec 32 := 1024#32
  let c0_i32_142 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v338 : BitVec 32 := Scalar.subi v337 v3
  let v339 : BitVec 32 := Scalar.maxsi c0_i32_142 v338
  let v340 : BitVec 32 := Scalar.minsi c1024_i32_143 v339
  let c512_i32_781 : BitVec 32 := 512#32
  let v1271 : BitVec 32 := Scalar.subi v340 c512_i32_781
  let v1272 : BitVec 32 := Scalar.maxsi c0_i32_782 v1271
  let v1273 : BitVec 32 := Scalar.minsi c256_i32_783 v1272
  let c256_i32_780 : BitVec 32 := 256#32
  let c0_i32_779 : BitVec 32 := 0#32
  let c1024_i32_141 : BitVec 32 := 1024#32
  let c0_i32_140 : BitVec 32 := 0#32
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let v1274 : BitVec 1 := Scalar.cmpi .sgt v1273 v1270
  let v1275 : BitVec 32 := Scalar.extui v1274
  let c0_i32_784 : BitVec 32 := 0#32
  let v1276 : BitVec 1 := Scalar.cmpi .ne v1275 c0_i32_784
  v1276

def k3_off563 (i : grid3.Coords) (v332 : BitVec 32) (v337 : BitVec 32) (k3_t141 : Fin (k3_t141_loop i v332 v337).trips) : Fin 2 → Nat :=
  let c256_i32_780 : BitVec 32 := 256#32
  let c0_i32_779 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let c1_i32_1196 : BitVec 32 := 1#32
  let arg13 : BitVec 32 := Scf.iv v1270 c1_i32_1196 k3_t141
  let v1828 : Index := Scalar.indexCast arg13
  let c0_1206 : Index := 0#32
  ![v1828.toNat, 0]
def k3_off564 (i : grid3.Coords) (v332 : BitVec 32) (v337 : BitVec 32) (k3_t141 : Fin (k3_t141_loop i v332 v337).trips) : Fin 2 → Nat :=
  let c256_i32_780 : BitVec 32 := 256#32
  let c0_i32_779 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let c1_i32_1196 : BitVec 32 := 1#32
  let arg13 : BitVec 32 := Scf.iv v1270 c1_i32_1196 k3_t141
  let v1832 : Index := Scalar.indexCast arg13
  let c16_1207 : Index := 16#32
  ![v1832.toNat, 16]
def k3_off565 (i : grid3.Coords) (v332 : BitVec 32) (v337 : BitVec 32) (k3_t141 : Fin (k3_t141_loop i v332 v337).trips) : Fin 2 → Nat :=
  let c256_i32_780 : BitVec 32 := 256#32
  let c0_i32_779 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let c1_i32_1196 : BitVec 32 := 1#32
  let arg13 : BitVec 32 := Scf.iv v1270 c1_i32_1196 k3_t141
  let v1836 : Index := Scalar.indexCast arg13
  let c32_1208 : Index := 32#32
  ![v1836.toNat, 32]
def k3_off566 (i : grid3.Coords) (v332 : BitVec 32) (v337 : BitVec 32) (k3_t141 : Fin (k3_t141_loop i v332 v337).trips) : Fin 2 → Nat :=
  let c256_i32_780 : BitVec 32 := 256#32
  let c0_i32_779 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let c1_i32_1196 : BitVec 32 := 1#32
  let arg13 : BitVec 32 := Scf.iv v1270 c1_i32_1196 k3_t141
  let v1840 : Index := Scalar.indexCast arg13
  let c48_1209 : Index := 48#32
  ![v1840.toNat, 48]
@[reducible] def k3_t142_loop (i : grid3.Coords) (v332 : BitVec 32) (v337 : BitVec 32) : Scf.Loop 32 :=
  let c256_i32_780 : BitVec 32 := 256#32
  let c0_i32_779 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let c256_i32_783 : BitVec 32 := 256#32
  let c0_i32_782 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c512_i32_781 : BitVec 32 := 512#32
  let v1271 : BitVec 32 := Scalar.subi v340 c512_i32_781
  let v1272 : BitVec 32 := Scalar.maxsi c0_i32_782 v1271
  let v1273 : BitVec 32 := Scalar.minsi c256_i32_783 v1272
  let v1805 : BitVec 32 := Scalar.subi v1273 v1270
  let c1_i32_1195 : BitVec 32 := 1#32
  let v1807 : BitVec 32 := Scalar.divsi v1805 c1_i32_1195
  let v1808 : BitVec 32 := Scalar.muli v1807 c1_i32_1195
  let v1809 : BitVec 32 := Scalar.addi v1270 v1808
  let v1806 : BitVec 32 := Scalar.addi v1270 v1805
  let c1_i32_1197 : BitVec 32 := 1#32
  ⟨v1809, v1806, c1_i32_1197⟩
def k3_off567 (i : grid3.Coords) (v332 : BitVec 32) (v337 : BitVec 32) (k3_t142 : Fin (k3_t142_loop i v332 v337).trips) : Fin 2 → Nat :=
  let c256_i32_780 : BitVec 32 := 256#32
  let c0_i32_779 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let c256_i32_783 : BitVec 32 := 256#32
  let c0_i32_782 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c512_i32_781 : BitVec 32 := 512#32
  let v1271 : BitVec 32 := Scalar.subi v340 c512_i32_781
  let v1272 : BitVec 32 := Scalar.maxsi c0_i32_782 v1271
  let v1273 : BitVec 32 := Scalar.minsi c256_i32_783 v1272
  let v1805 : BitVec 32 := Scalar.subi v1273 v1270
  let c1_i32_1195 : BitVec 32 := 1#32
  let v1807 : BitVec 32 := Scalar.divsi v1805 c1_i32_1195
  let v1808 : BitVec 32 := Scalar.muli v1807 c1_i32_1195
  let v1809 : BitVec 32 := Scalar.addi v1270 v1808
  let c1_i32_1197 : BitVec 32 := 1#32
  let arg13 : BitVec 32 := Scf.iv v1809 c1_i32_1197 k3_t142
  let v1828 : Index := Scalar.indexCast arg13
  let c0_1206 : Index := 0#32
  ![v1828.toNat, 0]
def k3_off568 (i : grid3.Coords) (v332 : BitVec 32) (v337 : BitVec 32) (k3_t142 : Fin (k3_t142_loop i v332 v337).trips) : Fin 2 → Nat :=
  let c256_i32_780 : BitVec 32 := 256#32
  let c0_i32_779 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let c256_i32_783 : BitVec 32 := 256#32
  let c0_i32_782 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c512_i32_781 : BitVec 32 := 512#32
  let v1271 : BitVec 32 := Scalar.subi v340 c512_i32_781
  let v1272 : BitVec 32 := Scalar.maxsi c0_i32_782 v1271
  let v1273 : BitVec 32 := Scalar.minsi c256_i32_783 v1272
  let v1805 : BitVec 32 := Scalar.subi v1273 v1270
  let c1_i32_1195 : BitVec 32 := 1#32
  let v1807 : BitVec 32 := Scalar.divsi v1805 c1_i32_1195
  let v1808 : BitVec 32 := Scalar.muli v1807 c1_i32_1195
  let v1809 : BitVec 32 := Scalar.addi v1270 v1808
  let c1_i32_1197 : BitVec 32 := 1#32
  let arg13 : BitVec 32 := Scf.iv v1809 c1_i32_1197 k3_t142
  let v1832 : Index := Scalar.indexCast arg13
  let c16_1207 : Index := 16#32
  ![v1832.toNat, 16]
def k3_off569 (i : grid3.Coords) (v332 : BitVec 32) (v337 : BitVec 32) (k3_t142 : Fin (k3_t142_loop i v332 v337).trips) : Fin 2 → Nat :=
  let c256_i32_780 : BitVec 32 := 256#32
  let c0_i32_779 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let c256_i32_783 : BitVec 32 := 256#32
  let c0_i32_782 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c512_i32_781 : BitVec 32 := 512#32
  let v1271 : BitVec 32 := Scalar.subi v340 c512_i32_781
  let v1272 : BitVec 32 := Scalar.maxsi c0_i32_782 v1271
  let v1273 : BitVec 32 := Scalar.minsi c256_i32_783 v1272
  let v1805 : BitVec 32 := Scalar.subi v1273 v1270
  let c1_i32_1195 : BitVec 32 := 1#32
  let v1807 : BitVec 32 := Scalar.divsi v1805 c1_i32_1195
  let v1808 : BitVec 32 := Scalar.muli v1807 c1_i32_1195
  let v1809 : BitVec 32 := Scalar.addi v1270 v1808
  let c1_i32_1197 : BitVec 32 := 1#32
  let arg13 : BitVec 32 := Scf.iv v1809 c1_i32_1197 k3_t142
  let v1836 : Index := Scalar.indexCast arg13
  let c32_1208 : Index := 32#32
  ![v1836.toNat, 32]
def k3_off570 (i : grid3.Coords) (v332 : BitVec 32) (v337 : BitVec 32) (k3_t142 : Fin (k3_t142_loop i v332 v337).trips) : Fin 2 → Nat :=
  let c256_i32_780 : BitVec 32 := 256#32
  let c0_i32_779 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c512_i32_778 : BitVec 32 := 512#32
  let v1268 : BitVec 32 := Scalar.subi v335 c512_i32_778
  let v1269 : BitVec 32 := Scalar.maxsi c0_i32_779 v1268
  let v1270 : BitVec 32 := Scalar.minsi c256_i32_780 v1269
  let c256_i32_783 : BitVec 32 := 256#32
  let c0_i32_782 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c512_i32_781 : BitVec 32 := 512#32
  let v1271 : BitVec 32 := Scalar.subi v340 c512_i32_781
  let v1272 : BitVec 32 := Scalar.maxsi c0_i32_782 v1271
  let v1273 : BitVec 32 := Scalar.minsi c256_i32_783 v1272
  let v1805 : BitVec 32 := Scalar.subi v1273 v1270
  let c1_i32_1195 : BitVec 32 := 1#32
  let v1807 : BitVec 32 := Scalar.divsi v1805 c1_i32_1195
  let v1808 : BitVec 32 := Scalar.muli v1807 c1_i32_1195
  let v1809 : BitVec 32 := Scalar.addi v1270 v1808
  let c1_i32_1197 : BitVec 32 := 1#32
  let arg13 : BitVec 32 := Scf.iv v1809 c1_i32_1197 k3_t142
  let v1840 : Index := Scalar.indexCast arg13
  let c48_1209 : Index := 48#32
  ![v1840.toNat, 48]
@[reducible] def k3_t143_loop (i : grid3.Coords) (v342 : BitVec 32) (v348 : BitVec 32) : Scf.Loop 32 :=
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let c256_i32_790 : BitVec 32 := 256#32
  let c0_i32_789 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c512_i32_788 : BitVec 32 := 512#32
  let v1280 : BitVec 32 := Scalar.subi v352 c512_i32_788
  let v1281 : BitVec 32 := Scalar.maxsi c0_i32_789 v1280
  let v1282 : BitVec 32 := Scalar.minsi c256_i32_790 v1281
  let v1805 : BitVec 32 := Scalar.subi v1282 v1279
  let c1_i32_1195 : BitVec 32 := 1#32
  let v1807 : BitVec 32 := Scalar.divsi v1805 c1_i32_1195
  let v1808 : BitVec 32 := Scalar.muli v1807 c1_i32_1195
  let v1809 : BitVec 32 := Scalar.addi v1279 v1808
  let c1_i32_1196 : BitVec 32 := 1#32
  ⟨v1279, v1809, c1_i32_1196⟩
def k3_cond72 (i : grid3.Coords) (v342 : BitVec 32) (v348 : BitVec 32) : BitVec 1 :=
  let c256_i32_790 : BitVec 32 := 256#32
  let c0_i32_789 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v350 : BitVec 32 := Scalar.subi v349 v3
  let v351 : BitVec 32 := Scalar.maxsi c0_i32_148 v350
  let v352 : BitVec 32 := Scalar.minsi c1024_i32_149 v351
  let c512_i32_788 : BitVec 32 := 512#32
  let v1280 : BitVec 32 := Scalar.subi v352 c512_i32_788
  let v1281 : BitVec 32 := Scalar.maxsi c0_i32_789 v1280
  let v1282 : BitVec 32 := Scalar.minsi c256_i32_790 v1281
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let v1283 : BitVec 1 := Scalar.cmpi .sgt v1282 v1279
  let v1284 : BitVec 32 := Scalar.extui v1283
  let c0_i32_791 : BitVec 32 := 0#32
  let v1285 : BitVec 1 := Scalar.cmpi .ne v1284 c0_i32_791
  v1285

def k3_off571 (i : grid3.Coords) (v342 : BitVec 32) (v348 : BitVec 32) (k3_t143 : Fin (k3_t143_loop i v342 v348).trips) : Fin 2 → Nat :=
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let c1_i32_1196 : BitVec 32 := 1#32
  let arg13 : BitVec 32 := Scf.iv v1279 c1_i32_1196 k3_t143
  let v1828 : Index := Scalar.indexCast arg13
  let c64 : Index := 64#32
  ![v1828.toNat, 64]
def k3_off572 (i : grid3.Coords) (v342 : BitVec 32) (v348 : BitVec 32) (k3_t143 : Fin (k3_t143_loop i v342 v348).trips) : Fin 2 → Nat :=
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let c1_i32_1196 : BitVec 32 := 1#32
  let arg13 : BitVec 32 := Scf.iv v1279 c1_i32_1196 k3_t143
  let v1832 : Index := Scalar.indexCast arg13
  let c80 : Index := 80#32
  ![v1832.toNat, 80]
def k3_off573 (i : grid3.Coords) (v342 : BitVec 32) (v348 : BitVec 32) (k3_t143 : Fin (k3_t143_loop i v342 v348).trips) : Fin 2 → Nat :=
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let c1_i32_1196 : BitVec 32 := 1#32
  let arg13 : BitVec 32 := Scf.iv v1279 c1_i32_1196 k3_t143
  let v1836 : Index := Scalar.indexCast arg13
  let c96 : Index := 96#32
  ![v1836.toNat, 96]
def k3_off574 (i : grid3.Coords) (v342 : BitVec 32) (v348 : BitVec 32) (k3_t143 : Fin (k3_t143_loop i v342 v348).trips) : Fin 2 → Nat :=
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let c1_i32_1196 : BitVec 32 := 1#32
  let arg13 : BitVec 32 := Scf.iv v1279 c1_i32_1196 k3_t143
  let v1840 : Index := Scalar.indexCast arg13
  let c112 : Index := 112#32
  ![v1840.toNat, 112]
@[reducible] def k3_t144_loop (i : grid3.Coords) (v342 : BitVec 32) (v348 : BitVec 32) : Scf.Loop 32 :=
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let c256_i32_790 : BitVec 32 := 256#32
  let c0_i32_789 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c512_i32_788 : BitVec 32 := 512#32
  let v1280 : BitVec 32 := Scalar.subi v352 c512_i32_788
  let v1281 : BitVec 32 := Scalar.maxsi c0_i32_789 v1280
  let v1282 : BitVec 32 := Scalar.minsi c256_i32_790 v1281
  let v1805 : BitVec 32 := Scalar.subi v1282 v1279
  let c1_i32_1195 : BitVec 32 := 1#32
  let v1807 : BitVec 32 := Scalar.divsi v1805 c1_i32_1195
  let v1808 : BitVec 32 := Scalar.muli v1807 c1_i32_1195
  let v1809 : BitVec 32 := Scalar.addi v1279 v1808
  let v1806 : BitVec 32 := Scalar.addi v1279 v1805
  let c1_i32_1197 : BitVec 32 := 1#32
  ⟨v1809, v1806, c1_i32_1197⟩
def k3_off575 (i : grid3.Coords) (v342 : BitVec 32) (v348 : BitVec 32) (k3_t144 : Fin (k3_t144_loop i v342 v348).trips) : Fin 2 → Nat :=
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let c256_i32_790 : BitVec 32 := 256#32
  let c0_i32_789 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c512_i32_788 : BitVec 32 := 512#32
  let v1280 : BitVec 32 := Scalar.subi v352 c512_i32_788
  let v1281 : BitVec 32 := Scalar.maxsi c0_i32_789 v1280
  let v1282 : BitVec 32 := Scalar.minsi c256_i32_790 v1281
  let v1805 : BitVec 32 := Scalar.subi v1282 v1279
  let c1_i32_1195 : BitVec 32 := 1#32
  let v1807 : BitVec 32 := Scalar.divsi v1805 c1_i32_1195
  let v1808 : BitVec 32 := Scalar.muli v1807 c1_i32_1195
  let v1809 : BitVec 32 := Scalar.addi v1279 v1808
  let c1_i32_1197 : BitVec 32 := 1#32
  let arg13 : BitVec 32 := Scf.iv v1809 c1_i32_1197 k3_t144
  let v1828 : Index := Scalar.indexCast arg13
  let c64 : Index := 64#32
  ![v1828.toNat, 64]
def k3_off576 (i : grid3.Coords) (v342 : BitVec 32) (v348 : BitVec 32) (k3_t144 : Fin (k3_t144_loop i v342 v348).trips) : Fin 2 → Nat :=
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let c256_i32_790 : BitVec 32 := 256#32
  let c0_i32_789 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c512_i32_788 : BitVec 32 := 512#32
  let v1280 : BitVec 32 := Scalar.subi v352 c512_i32_788
  let v1281 : BitVec 32 := Scalar.maxsi c0_i32_789 v1280
  let v1282 : BitVec 32 := Scalar.minsi c256_i32_790 v1281
  let v1805 : BitVec 32 := Scalar.subi v1282 v1279
  let c1_i32_1195 : BitVec 32 := 1#32
  let v1807 : BitVec 32 := Scalar.divsi v1805 c1_i32_1195
  let v1808 : BitVec 32 := Scalar.muli v1807 c1_i32_1195
  let v1809 : BitVec 32 := Scalar.addi v1279 v1808
  let c1_i32_1197 : BitVec 32 := 1#32
  let arg13 : BitVec 32 := Scf.iv v1809 c1_i32_1197 k3_t144
  let v1832 : Index := Scalar.indexCast arg13
  let c80 : Index := 80#32
  ![v1832.toNat, 80]
def k3_off577 (i : grid3.Coords) (v342 : BitVec 32) (v348 : BitVec 32) (k3_t144 : Fin (k3_t144_loop i v342 v348).trips) : Fin 2 → Nat :=
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let c256_i32_790 : BitVec 32 := 256#32
  let c0_i32_789 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c512_i32_788 : BitVec 32 := 512#32
  let v1280 : BitVec 32 := Scalar.subi v352 c512_i32_788
  let v1281 : BitVec 32 := Scalar.maxsi c0_i32_789 v1280
  let v1282 : BitVec 32 := Scalar.minsi c256_i32_790 v1281
  let v1805 : BitVec 32 := Scalar.subi v1282 v1279
  let c1_i32_1195 : BitVec 32 := 1#32
  let v1807 : BitVec 32 := Scalar.divsi v1805 c1_i32_1195
  let v1808 : BitVec 32 := Scalar.muli v1807 c1_i32_1195
  let v1809 : BitVec 32 := Scalar.addi v1279 v1808
  let c1_i32_1197 : BitVec 32 := 1#32
  let arg13 : BitVec 32 := Scf.iv v1809 c1_i32_1197 k3_t144
  let v1836 : Index := Scalar.indexCast arg13
  let c96 : Index := 96#32
  ![v1836.toNat, 96]
def k3_off578 (i : grid3.Coords) (v342 : BitVec 32) (v348 : BitVec 32) (k3_t144 : Fin (k3_t144_loop i v342 v348).trips) : Fin 2 → Nat :=
  let c256_i32_787 : BitVec 32 := 256#32
  let c0_i32_786 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c512_i32_785 : BitVec 32 := 512#32
  let v1277 : BitVec 32 := Scalar.subi v346 c512_i32_785
  let v1278 : BitVec 32 := Scalar.maxsi c0_i32_786 v1277
  let v1279 : BitVec 32 := Scalar.minsi c256_i32_787 v1278
  let c256_i32_790 : BitVec 32 := 256#32
  let c0_i32_789 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c512_i32_788 : BitVec 32 := 512#32
  let v1280 : BitVec 32 := Scalar.subi v352 c512_i32_788
  let v1281 : BitVec 32 := Scalar.maxsi c0_i32_789 v1280
  let v1282 : BitVec 32 := Scalar.minsi c256_i32_790 v1281
  let v1805 : BitVec 32 := Scalar.subi v1282 v1279
  let c1_i32_1195 : BitVec 32 := 1#32
  let v1807 : BitVec 32 := Scalar.divsi v1805 c1_i32_1195
  let v1808 : BitVec 32 := Scalar.muli v1807 c1_i32_1195
  let v1809 : BitVec 32 := Scalar.addi v1279 v1808
  let c1_i32_1197 : BitVec 32 := 1#32
  let arg13 : BitVec 32 := Scf.iv v1809 c1_i32_1197 k3_t144
  let v1840 : Index := Scalar.indexCast arg13
  let c112 : Index := 112#32
  ![v1840.toNat, 112]
@[reducible] def k3_t145_loop (i : grid3.Coords) (v354 : BitVec 32) (v359 : BitVec 32) : Scf.Loop 32 :=
  let c256_i32_794 : BitVec 32 := 256#32
  let c0_i32_793 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let c256_i32_797 : BitVec 32 := 256#32
  let c0_i32_796 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c512_i32_795 : BitVec 32 := 512#32
  let v1289 : BitVec 32 := Scalar.subi v362 c512_i32_795
  let v1290 : BitVec 32 := Scalar.maxsi c0_i32_796 v1289
  let v1291 : BitVec 32 := Scalar.minsi c256_i32_797 v1290
  let v1805 : BitVec 32 := Scalar.subi v1291 v1288
  let c1_i32_1195 : BitVec 32 := 1#32
  let v1807 : BitVec 32 := Scalar.divsi v1805 c1_i32_1195
  let v1808 : BitVec 32 := Scalar.muli v1807 c1_i32_1195
  let v1809 : BitVec 32 := Scalar.addi v1288 v1808
  let c1_i32_1196 : BitVec 32 := 1#32
  ⟨v1288, v1809, c1_i32_1196⟩
def k3_cond73 (i : grid3.Coords) (v354 : BitVec 32) (v359 : BitVec 32) : BitVec 1 :=
  let c256_i32_797 : BitVec 32 := 256#32
  let c0_i32_796 : BitVec 32 := 0#32
  let c1024_i32_153 : BitVec 32 := 1024#32
  let c0_i32_152 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v360 : BitVec 32 := Scalar.subi v359 v3
  let v361 : BitVec 32 := Scalar.maxsi c0_i32_152 v360
  let v362 : BitVec 32 := Scalar.minsi c1024_i32_153 v361
  let c512_i32_795 : BitVec 32 := 512#32
  let v1289 : BitVec 32 := Scalar.subi v362 c512_i32_795
  let v1290 : BitVec 32 := Scalar.maxsi c0_i32_796 v1289
  let v1291 : BitVec 32 := Scalar.minsi c256_i32_797 v1290
  let c256_i32_794 : BitVec 32 := 256#32
  let c0_i32_793 : BitVec 32 := 0#32
  let c1024_i32_151 : BitVec 32 := 1024#32
  let c0_i32_150 : BitVec 32 := 0#32
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let v1292 : BitVec 1 := Scalar.cmpi .sgt v1291 v1288
  let v1293 : BitVec 32 := Scalar.extui v1292
  let c0_i32_798 : BitVec 32 := 0#32
  let v1294 : BitVec 1 := Scalar.cmpi .ne v1293 c0_i32_798
  v1294

def k3_off579 (i : grid3.Coords) (v354 : BitVec 32) (v359 : BitVec 32) (k3_t145 : Fin (k3_t145_loop i v354 v359).trips) : Fin 2 → Nat :=
  let c256_i32_794 : BitVec 32 := 256#32
  let c0_i32_793 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let c1_i32_1196 : BitVec 32 := 1#32
  let arg13 : BitVec 32 := Scf.iv v1288 c1_i32_1196 k3_t145
  let v1828 : Index := Scalar.indexCast arg13
  let c0_1206 : Index := 0#32
  ![v1828.toNat, 0]
def k3_off580 (i : grid3.Coords) (v354 : BitVec 32) (v359 : BitVec 32) (k3_t145 : Fin (k3_t145_loop i v354 v359).trips) : Fin 2 → Nat :=
  let c256_i32_794 : BitVec 32 := 256#32
  let c0_i32_793 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let c1_i32_1196 : BitVec 32 := 1#32
  let arg13 : BitVec 32 := Scf.iv v1288 c1_i32_1196 k3_t145
  let v1832 : Index := Scalar.indexCast arg13
  let c16_1207 : Index := 16#32
  ![v1832.toNat, 16]
def k3_off581 (i : grid3.Coords) (v354 : BitVec 32) (v359 : BitVec 32) (k3_t145 : Fin (k3_t145_loop i v354 v359).trips) : Fin 2 → Nat :=
  let c256_i32_794 : BitVec 32 := 256#32
  let c0_i32_793 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let c1_i32_1196 : BitVec 32 := 1#32
  let arg13 : BitVec 32 := Scf.iv v1288 c1_i32_1196 k3_t145
  let v1836 : Index := Scalar.indexCast arg13
  let c32_1208 : Index := 32#32
  ![v1836.toNat, 32]
def k3_off582 (i : grid3.Coords) (v354 : BitVec 32) (v359 : BitVec 32) (k3_t145 : Fin (k3_t145_loop i v354 v359).trips) : Fin 2 → Nat :=
  let c256_i32_794 : BitVec 32 := 256#32
  let c0_i32_793 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let c1_i32_1196 : BitVec 32 := 1#32
  let arg13 : BitVec 32 := Scf.iv v1288 c1_i32_1196 k3_t145
  let v1840 : Index := Scalar.indexCast arg13
  let c48_1209 : Index := 48#32
  ![v1840.toNat, 48]
@[reducible] def k3_t146_loop (i : grid3.Coords) (v354 : BitVec 32) (v359 : BitVec 32) : Scf.Loop 32 :=
  let c256_i32_794 : BitVec 32 := 256#32
  let c0_i32_793 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let c256_i32_797 : BitVec 32 := 256#32
  let c0_i32_796 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c512_i32_795 : BitVec 32 := 512#32
  let v1289 : BitVec 32 := Scalar.subi v362 c512_i32_795
  let v1290 : BitVec 32 := Scalar.maxsi c0_i32_796 v1289
  let v1291 : BitVec 32 := Scalar.minsi c256_i32_797 v1290
  let v1805 : BitVec 32 := Scalar.subi v1291 v1288
  let c1_i32_1195 : BitVec 32 := 1#32
  let v1807 : BitVec 32 := Scalar.divsi v1805 c1_i32_1195
  let v1808 : BitVec 32 := Scalar.muli v1807 c1_i32_1195
  let v1809 : BitVec 32 := Scalar.addi v1288 v1808
  let v1806 : BitVec 32 := Scalar.addi v1288 v1805
  let c1_i32_1197 : BitVec 32 := 1#32
  ⟨v1809, v1806, c1_i32_1197⟩
def k3_off583 (i : grid3.Coords) (v354 : BitVec 32) (v359 : BitVec 32) (k3_t146 : Fin (k3_t146_loop i v354 v359).trips) : Fin 2 → Nat :=
  let c256_i32_794 : BitVec 32 := 256#32
  let c0_i32_793 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let c256_i32_797 : BitVec 32 := 256#32
  let c0_i32_796 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c512_i32_795 : BitVec 32 := 512#32
  let v1289 : BitVec 32 := Scalar.subi v362 c512_i32_795
  let v1290 : BitVec 32 := Scalar.maxsi c0_i32_796 v1289
  let v1291 : BitVec 32 := Scalar.minsi c256_i32_797 v1290
  let v1805 : BitVec 32 := Scalar.subi v1291 v1288
  let c1_i32_1195 : BitVec 32 := 1#32
  let v1807 : BitVec 32 := Scalar.divsi v1805 c1_i32_1195
  let v1808 : BitVec 32 := Scalar.muli v1807 c1_i32_1195
  let v1809 : BitVec 32 := Scalar.addi v1288 v1808
  let c1_i32_1197 : BitVec 32 := 1#32
  let arg13 : BitVec 32 := Scf.iv v1809 c1_i32_1197 k3_t146
  let v1828 : Index := Scalar.indexCast arg13
  let c0_1206 : Index := 0#32
  ![v1828.toNat, 0]
def k3_off584 (i : grid3.Coords) (v354 : BitVec 32) (v359 : BitVec 32) (k3_t146 : Fin (k3_t146_loop i v354 v359).trips) : Fin 2 → Nat :=
  let c256_i32_794 : BitVec 32 := 256#32
  let c0_i32_793 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let c256_i32_797 : BitVec 32 := 256#32
  let c0_i32_796 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c512_i32_795 : BitVec 32 := 512#32
  let v1289 : BitVec 32 := Scalar.subi v362 c512_i32_795
  let v1290 : BitVec 32 := Scalar.maxsi c0_i32_796 v1289
  let v1291 : BitVec 32 := Scalar.minsi c256_i32_797 v1290
  let v1805 : BitVec 32 := Scalar.subi v1291 v1288
  let c1_i32_1195 : BitVec 32 := 1#32
  let v1807 : BitVec 32 := Scalar.divsi v1805 c1_i32_1195
  let v1808 : BitVec 32 := Scalar.muli v1807 c1_i32_1195
  let v1809 : BitVec 32 := Scalar.addi v1288 v1808
  let c1_i32_1197 : BitVec 32 := 1#32
  let arg13 : BitVec 32 := Scf.iv v1809 c1_i32_1197 k3_t146
  let v1832 : Index := Scalar.indexCast arg13
  let c16_1207 : Index := 16#32
  ![v1832.toNat, 16]
def k3_off585 (i : grid3.Coords) (v354 : BitVec 32) (v359 : BitVec 32) (k3_t146 : Fin (k3_t146_loop i v354 v359).trips) : Fin 2 → Nat :=
  let c256_i32_794 : BitVec 32 := 256#32
  let c0_i32_793 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let c256_i32_797 : BitVec 32 := 256#32
  let c0_i32_796 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c512_i32_795 : BitVec 32 := 512#32
  let v1289 : BitVec 32 := Scalar.subi v362 c512_i32_795
  let v1290 : BitVec 32 := Scalar.maxsi c0_i32_796 v1289
  let v1291 : BitVec 32 := Scalar.minsi c256_i32_797 v1290
  let v1805 : BitVec 32 := Scalar.subi v1291 v1288
  let c1_i32_1195 : BitVec 32 := 1#32
  let v1807 : BitVec 32 := Scalar.divsi v1805 c1_i32_1195
  let v1808 : BitVec 32 := Scalar.muli v1807 c1_i32_1195
  let v1809 : BitVec 32 := Scalar.addi v1288 v1808
  let c1_i32_1197 : BitVec 32 := 1#32
  let arg13 : BitVec 32 := Scf.iv v1809 c1_i32_1197 k3_t146
  let v1836 : Index := Scalar.indexCast arg13
  let c32_1208 : Index := 32#32
  ![v1836.toNat, 32]
def k3_off586 (i : grid3.Coords) (v354 : BitVec 32) (v359 : BitVec 32) (k3_t146 : Fin (k3_t146_loop i v354 v359).trips) : Fin 2 → Nat :=
  let c256_i32_794 : BitVec 32 := 256#32
  let c0_i32_793 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c512_i32_792 : BitVec 32 := 512#32
  let v1286 : BitVec 32 := Scalar.subi v357 c512_i32_792
  let v1287 : BitVec 32 := Scalar.maxsi c0_i32_793 v1286
  let v1288 : BitVec 32 := Scalar.minsi c256_i32_794 v1287
  let c256_i32_797 : BitVec 32 := 256#32
  let c0_i32_796 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c512_i32_795 : BitVec 32 := 512#32
  let v1289 : BitVec 32 := Scalar.subi v362 c512_i32_795
  let v1290 : BitVec 32 := Scalar.maxsi c0_i32_796 v1289
  let v1291 : BitVec 32 := Scalar.minsi c256_i32_797 v1290
  let v1805 : BitVec 32 := Scalar.subi v1291 v1288
  let c1_i32_1195 : BitVec 32 := 1#32
  let v1807 : BitVec 32 := Scalar.divsi v1805 c1_i32_1195
  let v1808 : BitVec 32 := Scalar.muli v1807 c1_i32_1195
  let v1809 : BitVec 32 := Scalar.addi v1288 v1808
  let c1_i32_1197 : BitVec 32 := 1#32
  let arg13 : BitVec 32 := Scf.iv v1809 c1_i32_1197 k3_t146
  let v1840 : Index := Scalar.indexCast arg13
  let c48_1209 : Index := 48#32
  ![v1840.toNat, 48]
@[reducible] def k3_t147_loop (i : grid3.Coords) (v364 : BitVec 32) (v370 : BitVec 32) : Scf.Loop 32 :=
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let c256_i32_804 : BitVec 32 := 256#32
  let c0_i32_803 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c512_i32_802 : BitVec 32 := 512#32
  let v1298 : BitVec 32 := Scalar.subi v374 c512_i32_802
  let v1299 : BitVec 32 := Scalar.maxsi c0_i32_803 v1298
  let v1300 : BitVec 32 := Scalar.minsi c256_i32_804 v1299
  let v1805 : BitVec 32 := Scalar.subi v1300 v1297
  let c1_i32_1195 : BitVec 32 := 1#32
  let v1807 : BitVec 32 := Scalar.divsi v1805 c1_i32_1195
  let v1808 : BitVec 32 := Scalar.muli v1807 c1_i32_1195
  let v1809 : BitVec 32 := Scalar.addi v1297 v1808
  let c1_i32_1196 : BitVec 32 := 1#32
  ⟨v1297, v1809, c1_i32_1196⟩
def k3_cond74 (i : grid3.Coords) (v364 : BitVec 32) (v370 : BitVec 32) : BitVec 1 :=
  let c256_i32_804 : BitVec 32 := 256#32
  let c0_i32_803 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v372 : BitVec 32 := Scalar.subi v371 v3
  let v373 : BitVec 32 := Scalar.maxsi c0_i32_158 v372
  let v374 : BitVec 32 := Scalar.minsi c1024_i32_159 v373
  let c512_i32_802 : BitVec 32 := 512#32
  let v1298 : BitVec 32 := Scalar.subi v374 c512_i32_802
  let v1299 : BitVec 32 := Scalar.maxsi c0_i32_803 v1298
  let v1300 : BitVec 32 := Scalar.minsi c256_i32_804 v1299
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let v1301 : BitVec 1 := Scalar.cmpi .sgt v1300 v1297
  let v1302 : BitVec 32 := Scalar.extui v1301
  let c0_i32_805 : BitVec 32 := 0#32
  let v1303 : BitVec 1 := Scalar.cmpi .ne v1302 c0_i32_805
  v1303

def k3_off587 (i : grid3.Coords) (v364 : BitVec 32) (v370 : BitVec 32) (k3_t147 : Fin (k3_t147_loop i v364 v370).trips) : Fin 2 → Nat :=
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let c1_i32_1196 : BitVec 32 := 1#32
  let arg13 : BitVec 32 := Scf.iv v1297 c1_i32_1196 k3_t147
  let v1828 : Index := Scalar.indexCast arg13
  let c64 : Index := 64#32
  ![v1828.toNat, 64]
def k3_off588 (i : grid3.Coords) (v364 : BitVec 32) (v370 : BitVec 32) (k3_t147 : Fin (k3_t147_loop i v364 v370).trips) : Fin 2 → Nat :=
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let c1_i32_1196 : BitVec 32 := 1#32
  let arg13 : BitVec 32 := Scf.iv v1297 c1_i32_1196 k3_t147
  let v1832 : Index := Scalar.indexCast arg13
  let c80 : Index := 80#32
  ![v1832.toNat, 80]
def k3_off589 (i : grid3.Coords) (v364 : BitVec 32) (v370 : BitVec 32) (k3_t147 : Fin (k3_t147_loop i v364 v370).trips) : Fin 2 → Nat :=
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let c1_i32_1196 : BitVec 32 := 1#32
  let arg13 : BitVec 32 := Scf.iv v1297 c1_i32_1196 k3_t147
  let v1836 : Index := Scalar.indexCast arg13
  let c96 : Index := 96#32
  ![v1836.toNat, 96]
def k3_off590 (i : grid3.Coords) (v364 : BitVec 32) (v370 : BitVec 32) (k3_t147 : Fin (k3_t147_loop i v364 v370).trips) : Fin 2 → Nat :=
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let c1_i32_1196 : BitVec 32 := 1#32
  let arg13 : BitVec 32 := Scf.iv v1297 c1_i32_1196 k3_t147
  let v1840 : Index := Scalar.indexCast arg13
  let c112 : Index := 112#32
  ![v1840.toNat, 112]
@[reducible] def k3_t148_loop (i : grid3.Coords) (v364 : BitVec 32) (v370 : BitVec 32) : Scf.Loop 32 :=
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let c256_i32_804 : BitVec 32 := 256#32
  let c0_i32_803 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c512_i32_802 : BitVec 32 := 512#32
  let v1298 : BitVec 32 := Scalar.subi v374 c512_i32_802
  let v1299 : BitVec 32 := Scalar.maxsi c0_i32_803 v1298
  let v1300 : BitVec 32 := Scalar.minsi c256_i32_804 v1299
  let v1805 : BitVec 32 := Scalar.subi v1300 v1297
  let c1_i32_1195 : BitVec 32 := 1#32
  let v1807 : BitVec 32 := Scalar.divsi v1805 c1_i32_1195
  let v1808 : BitVec 32 := Scalar.muli v1807 c1_i32_1195
  let v1809 : BitVec 32 := Scalar.addi v1297 v1808
  let v1806 : BitVec 32 := Scalar.addi v1297 v1805
  let c1_i32_1197 : BitVec 32 := 1#32
  ⟨v1809, v1806, c1_i32_1197⟩
def k3_off591 (i : grid3.Coords) (v364 : BitVec 32) (v370 : BitVec 32) (k3_t148 : Fin (k3_t148_loop i v364 v370).trips) : Fin 2 → Nat :=
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let c256_i32_804 : BitVec 32 := 256#32
  let c0_i32_803 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c512_i32_802 : BitVec 32 := 512#32
  let v1298 : BitVec 32 := Scalar.subi v374 c512_i32_802
  let v1299 : BitVec 32 := Scalar.maxsi c0_i32_803 v1298
  let v1300 : BitVec 32 := Scalar.minsi c256_i32_804 v1299
  let v1805 : BitVec 32 := Scalar.subi v1300 v1297
  let c1_i32_1195 : BitVec 32 := 1#32
  let v1807 : BitVec 32 := Scalar.divsi v1805 c1_i32_1195
  let v1808 : BitVec 32 := Scalar.muli v1807 c1_i32_1195
  let v1809 : BitVec 32 := Scalar.addi v1297 v1808
  let c1_i32_1197 : BitVec 32 := 1#32
  let arg13 : BitVec 32 := Scf.iv v1809 c1_i32_1197 k3_t148
  let v1828 : Index := Scalar.indexCast arg13
  let c64 : Index := 64#32
  ![v1828.toNat, 64]
def k3_off592 (i : grid3.Coords) (v364 : BitVec 32) (v370 : BitVec 32) (k3_t148 : Fin (k3_t148_loop i v364 v370).trips) : Fin 2 → Nat :=
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let c256_i32_804 : BitVec 32 := 256#32
  let c0_i32_803 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c512_i32_802 : BitVec 32 := 512#32
  let v1298 : BitVec 32 := Scalar.subi v374 c512_i32_802
  let v1299 : BitVec 32 := Scalar.maxsi c0_i32_803 v1298
  let v1300 : BitVec 32 := Scalar.minsi c256_i32_804 v1299
  let v1805 : BitVec 32 := Scalar.subi v1300 v1297
  let c1_i32_1195 : BitVec 32 := 1#32
  let v1807 : BitVec 32 := Scalar.divsi v1805 c1_i32_1195
  let v1808 : BitVec 32 := Scalar.muli v1807 c1_i32_1195
  let v1809 : BitVec 32 := Scalar.addi v1297 v1808
  let c1_i32_1197 : BitVec 32 := 1#32
  let arg13 : BitVec 32 := Scf.iv v1809 c1_i32_1197 k3_t148
  let v1832 : Index := Scalar.indexCast arg13
  let c80 : Index := 80#32
  ![v1832.toNat, 80]
def k3_off593 (i : grid3.Coords) (v364 : BitVec 32) (v370 : BitVec 32) (k3_t148 : Fin (k3_t148_loop i v364 v370).trips) : Fin 2 → Nat :=
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let c256_i32_804 : BitVec 32 := 256#32
  let c0_i32_803 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c512_i32_802 : BitVec 32 := 512#32
  let v1298 : BitVec 32 := Scalar.subi v374 c512_i32_802
  let v1299 : BitVec 32 := Scalar.maxsi c0_i32_803 v1298
  let v1300 : BitVec 32 := Scalar.minsi c256_i32_804 v1299
  let v1805 : BitVec 32 := Scalar.subi v1300 v1297
  let c1_i32_1195 : BitVec 32 := 1#32
  let v1807 : BitVec 32 := Scalar.divsi v1805 c1_i32_1195
  let v1808 : BitVec 32 := Scalar.muli v1807 c1_i32_1195
  let v1809 : BitVec 32 := Scalar.addi v1297 v1808
  let c1_i32_1197 : BitVec 32 := 1#32
  let arg13 : BitVec 32 := Scf.iv v1809 c1_i32_1197 k3_t148
  let v1836 : Index := Scalar.indexCast arg13
  let c96 : Index := 96#32
  ![v1836.toNat, 96]
def k3_off594 (i : grid3.Coords) (v364 : BitVec 32) (v370 : BitVec 32) (k3_t148 : Fin (k3_t148_loop i v364 v370).trips) : Fin 2 → Nat :=
  let c256_i32_801 : BitVec 32 := 256#32
  let c0_i32_800 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c512_i32_799 : BitVec 32 := 512#32
  let v1295 : BitVec 32 := Scalar.subi v368 c512_i32_799
  let v1296 : BitVec 32 := Scalar.maxsi c0_i32_800 v1295
  let v1297 : BitVec 32 := Scalar.minsi c256_i32_801 v1296
  let c256_i32_804 : BitVec 32 := 256#32
  let c0_i32_803 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c512_i32_802 : BitVec 32 := 512#32
  let v1298 : BitVec 32 := Scalar.subi v374 c512_i32_802
  let v1299 : BitVec 32 := Scalar.maxsi c0_i32_803 v1298
  let v1300 : BitVec 32 := Scalar.minsi c256_i32_804 v1299
  let v1805 : BitVec 32 := Scalar.subi v1300 v1297
  let c1_i32_1195 : BitVec 32 := 1#32
  let v1807 : BitVec 32 := Scalar.divsi v1805 c1_i32_1195
  let v1808 : BitVec 32 := Scalar.muli v1807 c1_i32_1195
  let v1809 : BitVec 32 := Scalar.addi v1297 v1808
  let c1_i32_1197 : BitVec 32 := 1#32
  let arg13 : BitVec 32 := Scf.iv v1809 c1_i32_1197 k3_t148
  let v1840 : Index := Scalar.indexCast arg13
  let c112 : Index := 112#32
  ![v1840.toNat, 112]
@[reducible] def k3_t149_loop (i : grid3.Coords) (v376 : BitVec 32) (v381 : BitVec 32) : Scf.Loop 32 :=
  let c256_i32_808 : BitVec 32 := 256#32
  let c0_i32_807 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let c256_i32_811 : BitVec 32 := 256#32
  let c0_i32_810 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c512_i32_809 : BitVec 32 := 512#32
  let v1307 : BitVec 32 := Scalar.subi v384 c512_i32_809
  let v1308 : BitVec 32 := Scalar.maxsi c0_i32_810 v1307
  let v1309 : BitVec 32 := Scalar.minsi c256_i32_811 v1308
  let v1805 : BitVec 32 := Scalar.subi v1309 v1306
  let c1_i32_1195 : BitVec 32 := 1#32
  let v1807 : BitVec 32 := Scalar.divsi v1805 c1_i32_1195
  let v1808 : BitVec 32 := Scalar.muli v1807 c1_i32_1195
  let v1809 : BitVec 32 := Scalar.addi v1306 v1808
  let c1_i32_1196 : BitVec 32 := 1#32
  ⟨v1306, v1809, c1_i32_1196⟩
def k3_cond75 (i : grid3.Coords) (v376 : BitVec 32) (v381 : BitVec 32) : BitVec 1 :=
  let c256_i32_811 : BitVec 32 := 256#32
  let c0_i32_810 : BitVec 32 := 0#32
  let c1024_i32_163 : BitVec 32 := 1024#32
  let c0_i32_162 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v382 : BitVec 32 := Scalar.subi v381 v3
  let v383 : BitVec 32 := Scalar.maxsi c0_i32_162 v382
  let v384 : BitVec 32 := Scalar.minsi c1024_i32_163 v383
  let c512_i32_809 : BitVec 32 := 512#32
  let v1307 : BitVec 32 := Scalar.subi v384 c512_i32_809
  let v1308 : BitVec 32 := Scalar.maxsi c0_i32_810 v1307
  let v1309 : BitVec 32 := Scalar.minsi c256_i32_811 v1308
  let c256_i32_808 : BitVec 32 := 256#32
  let c0_i32_807 : BitVec 32 := 0#32
  let c1024_i32_161 : BitVec 32 := 1024#32
  let c0_i32_160 : BitVec 32 := 0#32
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let v1310 : BitVec 1 := Scalar.cmpi .sgt v1309 v1306
  let v1311 : BitVec 32 := Scalar.extui v1310
  let c0_i32_812 : BitVec 32 := 0#32
  let v1312 : BitVec 1 := Scalar.cmpi .ne v1311 c0_i32_812
  v1312

def k3_off595 (i : grid3.Coords) (v376 : BitVec 32) (v381 : BitVec 32) (k3_t149 : Fin (k3_t149_loop i v376 v381).trips) : Fin 2 → Nat :=
  let c256_i32_808 : BitVec 32 := 256#32
  let c0_i32_807 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let c1_i32_1196 : BitVec 32 := 1#32
  let arg13 : BitVec 32 := Scf.iv v1306 c1_i32_1196 k3_t149
  let v1828 : Index := Scalar.indexCast arg13
  let c0_1206 : Index := 0#32
  ![v1828.toNat, 0]
def k3_off596 (i : grid3.Coords) (v376 : BitVec 32) (v381 : BitVec 32) (k3_t149 : Fin (k3_t149_loop i v376 v381).trips) : Fin 2 → Nat :=
  let c256_i32_808 : BitVec 32 := 256#32
  let c0_i32_807 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let c1_i32_1196 : BitVec 32 := 1#32
  let arg13 : BitVec 32 := Scf.iv v1306 c1_i32_1196 k3_t149
  let v1832 : Index := Scalar.indexCast arg13
  let c16_1207 : Index := 16#32
  ![v1832.toNat, 16]
def k3_off597 (i : grid3.Coords) (v376 : BitVec 32) (v381 : BitVec 32) (k3_t149 : Fin (k3_t149_loop i v376 v381).trips) : Fin 2 → Nat :=
  let c256_i32_808 : BitVec 32 := 256#32
  let c0_i32_807 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let c1_i32_1196 : BitVec 32 := 1#32
  let arg13 : BitVec 32 := Scf.iv v1306 c1_i32_1196 k3_t149
  let v1836 : Index := Scalar.indexCast arg13
  let c32_1208 : Index := 32#32
  ![v1836.toNat, 32]
def k3_off598 (i : grid3.Coords) (v376 : BitVec 32) (v381 : BitVec 32) (k3_t149 : Fin (k3_t149_loop i v376 v381).trips) : Fin 2 → Nat :=
  let c256_i32_808 : BitVec 32 := 256#32
  let c0_i32_807 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let c1_i32_1196 : BitVec 32 := 1#32
  let arg13 : BitVec 32 := Scf.iv v1306 c1_i32_1196 k3_t149
  let v1840 : Index := Scalar.indexCast arg13
  let c48_1209 : Index := 48#32
  ![v1840.toNat, 48]
@[reducible] def k3_t150_loop (i : grid3.Coords) (v376 : BitVec 32) (v381 : BitVec 32) : Scf.Loop 32 :=
  let c256_i32_808 : BitVec 32 := 256#32
  let c0_i32_807 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let c256_i32_811 : BitVec 32 := 256#32
  let c0_i32_810 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c512_i32_809 : BitVec 32 := 512#32
  let v1307 : BitVec 32 := Scalar.subi v384 c512_i32_809
  let v1308 : BitVec 32 := Scalar.maxsi c0_i32_810 v1307
  let v1309 : BitVec 32 := Scalar.minsi c256_i32_811 v1308
  let v1805 : BitVec 32 := Scalar.subi v1309 v1306
  let c1_i32_1195 : BitVec 32 := 1#32
  let v1807 : BitVec 32 := Scalar.divsi v1805 c1_i32_1195
  let v1808 : BitVec 32 := Scalar.muli v1807 c1_i32_1195
  let v1809 : BitVec 32 := Scalar.addi v1306 v1808
  let v1806 : BitVec 32 := Scalar.addi v1306 v1805
  let c1_i32_1197 : BitVec 32 := 1#32
  ⟨v1809, v1806, c1_i32_1197⟩
def k3_off599 (i : grid3.Coords) (v376 : BitVec 32) (v381 : BitVec 32) (k3_t150 : Fin (k3_t150_loop i v376 v381).trips) : Fin 2 → Nat :=
  let c256_i32_808 : BitVec 32 := 256#32
  let c0_i32_807 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let c256_i32_811 : BitVec 32 := 256#32
  let c0_i32_810 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c512_i32_809 : BitVec 32 := 512#32
  let v1307 : BitVec 32 := Scalar.subi v384 c512_i32_809
  let v1308 : BitVec 32 := Scalar.maxsi c0_i32_810 v1307
  let v1309 : BitVec 32 := Scalar.minsi c256_i32_811 v1308
  let v1805 : BitVec 32 := Scalar.subi v1309 v1306
  let c1_i32_1195 : BitVec 32 := 1#32
  let v1807 : BitVec 32 := Scalar.divsi v1805 c1_i32_1195
  let v1808 : BitVec 32 := Scalar.muli v1807 c1_i32_1195
  let v1809 : BitVec 32 := Scalar.addi v1306 v1808
  let c1_i32_1197 : BitVec 32 := 1#32
  let arg13 : BitVec 32 := Scf.iv v1809 c1_i32_1197 k3_t150
  let v1828 : Index := Scalar.indexCast arg13
  let c0_1206 : Index := 0#32
  ![v1828.toNat, 0]
def k3_off600 (i : grid3.Coords) (v376 : BitVec 32) (v381 : BitVec 32) (k3_t150 : Fin (k3_t150_loop i v376 v381).trips) : Fin 2 → Nat :=
  let c256_i32_808 : BitVec 32 := 256#32
  let c0_i32_807 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let c256_i32_811 : BitVec 32 := 256#32
  let c0_i32_810 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c512_i32_809 : BitVec 32 := 512#32
  let v1307 : BitVec 32 := Scalar.subi v384 c512_i32_809
  let v1308 : BitVec 32 := Scalar.maxsi c0_i32_810 v1307
  let v1309 : BitVec 32 := Scalar.minsi c256_i32_811 v1308
  let v1805 : BitVec 32 := Scalar.subi v1309 v1306
  let c1_i32_1195 : BitVec 32 := 1#32
  let v1807 : BitVec 32 := Scalar.divsi v1805 c1_i32_1195
  let v1808 : BitVec 32 := Scalar.muli v1807 c1_i32_1195
  let v1809 : BitVec 32 := Scalar.addi v1306 v1808
  let c1_i32_1197 : BitVec 32 := 1#32
  let arg13 : BitVec 32 := Scf.iv v1809 c1_i32_1197 k3_t150
  let v1832 : Index := Scalar.indexCast arg13
  let c16_1207 : Index := 16#32
  ![v1832.toNat, 16]
def k3_off601 (i : grid3.Coords) (v376 : BitVec 32) (v381 : BitVec 32) (k3_t150 : Fin (k3_t150_loop i v376 v381).trips) : Fin 2 → Nat :=
  let c256_i32_808 : BitVec 32 := 256#32
  let c0_i32_807 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let c256_i32_811 : BitVec 32 := 256#32
  let c0_i32_810 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c512_i32_809 : BitVec 32 := 512#32
  let v1307 : BitVec 32 := Scalar.subi v384 c512_i32_809
  let v1308 : BitVec 32 := Scalar.maxsi c0_i32_810 v1307
  let v1309 : BitVec 32 := Scalar.minsi c256_i32_811 v1308
  let v1805 : BitVec 32 := Scalar.subi v1309 v1306
  let c1_i32_1195 : BitVec 32 := 1#32
  let v1807 : BitVec 32 := Scalar.divsi v1805 c1_i32_1195
  let v1808 : BitVec 32 := Scalar.muli v1807 c1_i32_1195
  let v1809 : BitVec 32 := Scalar.addi v1306 v1808
  let c1_i32_1197 : BitVec 32 := 1#32
  let arg13 : BitVec 32 := Scf.iv v1809 c1_i32_1197 k3_t150
  let v1836 : Index := Scalar.indexCast arg13
  let c32_1208 : Index := 32#32
  ![v1836.toNat, 32]
def k3_off602 (i : grid3.Coords) (v376 : BitVec 32) (v381 : BitVec 32) (k3_t150 : Fin (k3_t150_loop i v376 v381).trips) : Fin 2 → Nat :=
  let c256_i32_808 : BitVec 32 := 256#32
  let c0_i32_807 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c512_i32_806 : BitVec 32 := 512#32
  let v1304 : BitVec 32 := Scalar.subi v379 c512_i32_806
  let v1305 : BitVec 32 := Scalar.maxsi c0_i32_807 v1304
  let v1306 : BitVec 32 := Scalar.minsi c256_i32_808 v1305
  let c256_i32_811 : BitVec 32 := 256#32
  let c0_i32_810 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c512_i32_809 : BitVec 32 := 512#32
  let v1307 : BitVec 32 := Scalar.subi v384 c512_i32_809
  let v1308 : BitVec 32 := Scalar.maxsi c0_i32_810 v1307
  let v1309 : BitVec 32 := Scalar.minsi c256_i32_811 v1308
  let v1805 : BitVec 32 := Scalar.subi v1309 v1306
  let c1_i32_1195 : BitVec 32 := 1#32
  let v1807 : BitVec 32 := Scalar.divsi v1805 c1_i32_1195
  let v1808 : BitVec 32 := Scalar.muli v1807 c1_i32_1195
  let v1809 : BitVec 32 := Scalar.addi v1306 v1808
  let c1_i32_1197 : BitVec 32 := 1#32
  let arg13 : BitVec 32 := Scf.iv v1809 c1_i32_1197 k3_t150
  let v1840 : Index := Scalar.indexCast arg13
  let c48_1209 : Index := 48#32
  ![v1840.toNat, 48]
@[reducible] def k3_t151_loop (i : grid3.Coords) (v386 : BitVec 32) (v392 : BitVec 32) : Scf.Loop 32 :=
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let c256_i32_818 : BitVec 32 := 256#32
  let c0_i32_817 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c512_i32_816 : BitVec 32 := 512#32
  let v1316 : BitVec 32 := Scalar.subi v396 c512_i32_816
  let v1317 : BitVec 32 := Scalar.maxsi c0_i32_817 v1316
  let v1318 : BitVec 32 := Scalar.minsi c256_i32_818 v1317
  let v1805 : BitVec 32 := Scalar.subi v1318 v1315
  let c1_i32_1195 : BitVec 32 := 1#32
  let v1807 : BitVec 32 := Scalar.divsi v1805 c1_i32_1195
  let v1808 : BitVec 32 := Scalar.muli v1807 c1_i32_1195
  let v1809 : BitVec 32 := Scalar.addi v1315 v1808
  let c1_i32_1196 : BitVec 32 := 1#32
  ⟨v1315, v1809, c1_i32_1196⟩
def k3_cond76 (i : grid3.Coords) (v386 : BitVec 32) (v392 : BitVec 32) : BitVec 1 :=
  let c256_i32_818 : BitVec 32 := 256#32
  let c0_i32_817 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v394 : BitVec 32 := Scalar.subi v393 v3
  let v395 : BitVec 32 := Scalar.maxsi c0_i32_168 v394
  let v396 : BitVec 32 := Scalar.minsi c1024_i32_169 v395
  let c512_i32_816 : BitVec 32 := 512#32
  let v1316 : BitVec 32 := Scalar.subi v396 c512_i32_816
  let v1317 : BitVec 32 := Scalar.maxsi c0_i32_817 v1316
  let v1318 : BitVec 32 := Scalar.minsi c256_i32_818 v1317
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let v1319 : BitVec 1 := Scalar.cmpi .sgt v1318 v1315
  let v1320 : BitVec 32 := Scalar.extui v1319
  let c0_i32_819 : BitVec 32 := 0#32
  let v1321 : BitVec 1 := Scalar.cmpi .ne v1320 c0_i32_819
  v1321

def k3_off603 (i : grid3.Coords) (v386 : BitVec 32) (v392 : BitVec 32) (k3_t151 : Fin (k3_t151_loop i v386 v392).trips) : Fin 2 → Nat :=
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let c1_i32_1196 : BitVec 32 := 1#32
  let arg13 : BitVec 32 := Scf.iv v1315 c1_i32_1196 k3_t151
  let v1828 : Index := Scalar.indexCast arg13
  let c64 : Index := 64#32
  ![v1828.toNat, 64]
def k3_off604 (i : grid3.Coords) (v386 : BitVec 32) (v392 : BitVec 32) (k3_t151 : Fin (k3_t151_loop i v386 v392).trips) : Fin 2 → Nat :=
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let c1_i32_1196 : BitVec 32 := 1#32
  let arg13 : BitVec 32 := Scf.iv v1315 c1_i32_1196 k3_t151
  let v1832 : Index := Scalar.indexCast arg13
  let c80 : Index := 80#32
  ![v1832.toNat, 80]
def k3_off605 (i : grid3.Coords) (v386 : BitVec 32) (v392 : BitVec 32) (k3_t151 : Fin (k3_t151_loop i v386 v392).trips) : Fin 2 → Nat :=
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let c1_i32_1196 : BitVec 32 := 1#32
  let arg13 : BitVec 32 := Scf.iv v1315 c1_i32_1196 k3_t151
  let v1836 : Index := Scalar.indexCast arg13
  let c96 : Index := 96#32
  ![v1836.toNat, 96]
def k3_off606 (i : grid3.Coords) (v386 : BitVec 32) (v392 : BitVec 32) (k3_t151 : Fin (k3_t151_loop i v386 v392).trips) : Fin 2 → Nat :=
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let c1_i32_1196 : BitVec 32 := 1#32
  let arg13 : BitVec 32 := Scf.iv v1315 c1_i32_1196 k3_t151
  let v1840 : Index := Scalar.indexCast arg13
  let c112 : Index := 112#32
  ![v1840.toNat, 112]
@[reducible] def k3_t152_loop (i : grid3.Coords) (v386 : BitVec 32) (v392 : BitVec 32) : Scf.Loop 32 :=
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let c256_i32_818 : BitVec 32 := 256#32
  let c0_i32_817 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c512_i32_816 : BitVec 32 := 512#32
  let v1316 : BitVec 32 := Scalar.subi v396 c512_i32_816
  let v1317 : BitVec 32 := Scalar.maxsi c0_i32_817 v1316
  let v1318 : BitVec 32 := Scalar.minsi c256_i32_818 v1317
  let v1805 : BitVec 32 := Scalar.subi v1318 v1315
  let c1_i32_1195 : BitVec 32 := 1#32
  let v1807 : BitVec 32 := Scalar.divsi v1805 c1_i32_1195
  let v1808 : BitVec 32 := Scalar.muli v1807 c1_i32_1195
  let v1809 : BitVec 32 := Scalar.addi v1315 v1808
  let v1806 : BitVec 32 := Scalar.addi v1315 v1805
  let c1_i32_1197 : BitVec 32 := 1#32
  ⟨v1809, v1806, c1_i32_1197⟩
def k3_off607 (i : grid3.Coords) (v386 : BitVec 32) (v392 : BitVec 32) (k3_t152 : Fin (k3_t152_loop i v386 v392).trips) : Fin 2 → Nat :=
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let c256_i32_818 : BitVec 32 := 256#32
  let c0_i32_817 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c512_i32_816 : BitVec 32 := 512#32
  let v1316 : BitVec 32 := Scalar.subi v396 c512_i32_816
  let v1317 : BitVec 32 := Scalar.maxsi c0_i32_817 v1316
  let v1318 : BitVec 32 := Scalar.minsi c256_i32_818 v1317
  let v1805 : BitVec 32 := Scalar.subi v1318 v1315
  let c1_i32_1195 : BitVec 32 := 1#32
  let v1807 : BitVec 32 := Scalar.divsi v1805 c1_i32_1195
  let v1808 : BitVec 32 := Scalar.muli v1807 c1_i32_1195
  let v1809 : BitVec 32 := Scalar.addi v1315 v1808
  let c1_i32_1197 : BitVec 32 := 1#32
  let arg13 : BitVec 32 := Scf.iv v1809 c1_i32_1197 k3_t152
  let v1828 : Index := Scalar.indexCast arg13
  let c64 : Index := 64#32
  ![v1828.toNat, 64]
def k3_off608 (i : grid3.Coords) (v386 : BitVec 32) (v392 : BitVec 32) (k3_t152 : Fin (k3_t152_loop i v386 v392).trips) : Fin 2 → Nat :=
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let c256_i32_818 : BitVec 32 := 256#32
  let c0_i32_817 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c512_i32_816 : BitVec 32 := 512#32
  let v1316 : BitVec 32 := Scalar.subi v396 c512_i32_816
  let v1317 : BitVec 32 := Scalar.maxsi c0_i32_817 v1316
  let v1318 : BitVec 32 := Scalar.minsi c256_i32_818 v1317
  let v1805 : BitVec 32 := Scalar.subi v1318 v1315
  let c1_i32_1195 : BitVec 32 := 1#32
  let v1807 : BitVec 32 := Scalar.divsi v1805 c1_i32_1195
  let v1808 : BitVec 32 := Scalar.muli v1807 c1_i32_1195
  let v1809 : BitVec 32 := Scalar.addi v1315 v1808
  let c1_i32_1197 : BitVec 32 := 1#32
  let arg13 : BitVec 32 := Scf.iv v1809 c1_i32_1197 k3_t152
  let v1832 : Index := Scalar.indexCast arg13
  let c80 : Index := 80#32
  ![v1832.toNat, 80]
def k3_off609 (i : grid3.Coords) (v386 : BitVec 32) (v392 : BitVec 32) (k3_t152 : Fin (k3_t152_loop i v386 v392).trips) : Fin 2 → Nat :=
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let c256_i32_818 : BitVec 32 := 256#32
  let c0_i32_817 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c512_i32_816 : BitVec 32 := 512#32
  let v1316 : BitVec 32 := Scalar.subi v396 c512_i32_816
  let v1317 : BitVec 32 := Scalar.maxsi c0_i32_817 v1316
  let v1318 : BitVec 32 := Scalar.minsi c256_i32_818 v1317
  let v1805 : BitVec 32 := Scalar.subi v1318 v1315
  let c1_i32_1195 : BitVec 32 := 1#32
  let v1807 : BitVec 32 := Scalar.divsi v1805 c1_i32_1195
  let v1808 : BitVec 32 := Scalar.muli v1807 c1_i32_1195
  let v1809 : BitVec 32 := Scalar.addi v1315 v1808
  let c1_i32_1197 : BitVec 32 := 1#32
  let arg13 : BitVec 32 := Scf.iv v1809 c1_i32_1197 k3_t152
  let v1836 : Index := Scalar.indexCast arg13
  let c96 : Index := 96#32
  ![v1836.toNat, 96]
def k3_off610 (i : grid3.Coords) (v386 : BitVec 32) (v392 : BitVec 32) (k3_t152 : Fin (k3_t152_loop i v386 v392).trips) : Fin 2 → Nat :=
  let c256_i32_815 : BitVec 32 := 256#32
  let c0_i32_814 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c512_i32_813 : BitVec 32 := 512#32
  let v1313 : BitVec 32 := Scalar.subi v390 c512_i32_813
  let v1314 : BitVec 32 := Scalar.maxsi c0_i32_814 v1313
  let v1315 : BitVec 32 := Scalar.minsi c256_i32_815 v1314
  let c256_i32_818 : BitVec 32 := 256#32
  let c0_i32_817 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c512_i32_816 : BitVec 32 := 512#32
  let v1316 : BitVec 32 := Scalar.subi v396 c512_i32_816
  let v1317 : BitVec 32 := Scalar.maxsi c0_i32_817 v1316
  let v1318 : BitVec 32 := Scalar.minsi c256_i32_818 v1317
  let v1805 : BitVec 32 := Scalar.subi v1318 v1315
  let c1_i32_1195 : BitVec 32 := 1#32
  let v1807 : BitVec 32 := Scalar.divsi v1805 c1_i32_1195
  let v1808 : BitVec 32 := Scalar.muli v1807 c1_i32_1195
  let v1809 : BitVec 32 := Scalar.addi v1315 v1808
  let c1_i32_1197 : BitVec 32 := 1#32
  let arg13 : BitVec 32 := Scf.iv v1809 c1_i32_1197 k3_t152
  let v1840 : Index := Scalar.indexCast arg13
  let c112 : Index := 112#32
  ![v1840.toNat, 112]
@[reducible] def k3_t153_loop (i : grid3.Coords) (v398 : BitVec 32) (v403 : BitVec 32) : Scf.Loop 32 :=
  let c256_i32_822 : BitVec 32 := 256#32
  let c0_i32_821 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let c256_i32_825 : BitVec 32 := 256#32
  let c0_i32_824 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c512_i32_823 : BitVec 32 := 512#32
  let v1325 : BitVec 32 := Scalar.subi v406 c512_i32_823
  let v1326 : BitVec 32 := Scalar.maxsi c0_i32_824 v1325
  let v1327 : BitVec 32 := Scalar.minsi c256_i32_825 v1326
  let v1805 : BitVec 32 := Scalar.subi v1327 v1324
  let c1_i32_1195 : BitVec 32 := 1#32
  let v1807 : BitVec 32 := Scalar.divsi v1805 c1_i32_1195
  let v1808 : BitVec 32 := Scalar.muli v1807 c1_i32_1195
  let v1809 : BitVec 32 := Scalar.addi v1324 v1808
  let c1_i32_1196 : BitVec 32 := 1#32
  ⟨v1324, v1809, c1_i32_1196⟩
def k3_cond77 (i : grid3.Coords) (v398 : BitVec 32) (v403 : BitVec 32) : BitVec 1 :=
  let c256_i32_825 : BitVec 32 := 256#32
  let c0_i32_824 : BitVec 32 := 0#32
  let c1024_i32_173 : BitVec 32 := 1024#32
  let c0_i32_172 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v404 : BitVec 32 := Scalar.subi v403 v3
  let v405 : BitVec 32 := Scalar.maxsi c0_i32_172 v404
  let v406 : BitVec 32 := Scalar.minsi c1024_i32_173 v405
  let c512_i32_823 : BitVec 32 := 512#32
  let v1325 : BitVec 32 := Scalar.subi v406 c512_i32_823
  let v1326 : BitVec 32 := Scalar.maxsi c0_i32_824 v1325
  let v1327 : BitVec 32 := Scalar.minsi c256_i32_825 v1326
  let c256_i32_822 : BitVec 32 := 256#32
  let c0_i32_821 : BitVec 32 := 0#32
  let c1024_i32_171 : BitVec 32 := 1024#32
  let c0_i32_170 : BitVec 32 := 0#32
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let v1328 : BitVec 1 := Scalar.cmpi .sgt v1327 v1324
  let v1329 : BitVec 32 := Scalar.extui v1328
  let c0_i32_826 : BitVec 32 := 0#32
  let v1330 : BitVec 1 := Scalar.cmpi .ne v1329 c0_i32_826
  v1330

def k3_off611 (i : grid3.Coords) (v398 : BitVec 32) (v403 : BitVec 32) (k3_t153 : Fin (k3_t153_loop i v398 v403).trips) : Fin 2 → Nat :=
  let c256_i32_822 : BitVec 32 := 256#32
  let c0_i32_821 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let c1_i32_1196 : BitVec 32 := 1#32
  let arg13 : BitVec 32 := Scf.iv v1324 c1_i32_1196 k3_t153
  let v1828 : Index := Scalar.indexCast arg13
  let c0_1206 : Index := 0#32
  ![v1828.toNat, 0]
def k3_off612 (i : grid3.Coords) (v398 : BitVec 32) (v403 : BitVec 32) (k3_t153 : Fin (k3_t153_loop i v398 v403).trips) : Fin 2 → Nat :=
  let c256_i32_822 : BitVec 32 := 256#32
  let c0_i32_821 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let c1_i32_1196 : BitVec 32 := 1#32
  let arg13 : BitVec 32 := Scf.iv v1324 c1_i32_1196 k3_t153
  let v1832 : Index := Scalar.indexCast arg13
  let c16_1207 : Index := 16#32
  ![v1832.toNat, 16]
def k3_off613 (i : grid3.Coords) (v398 : BitVec 32) (v403 : BitVec 32) (k3_t153 : Fin (k3_t153_loop i v398 v403).trips) : Fin 2 → Nat :=
  let c256_i32_822 : BitVec 32 := 256#32
  let c0_i32_821 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let c1_i32_1196 : BitVec 32 := 1#32
  let arg13 : BitVec 32 := Scf.iv v1324 c1_i32_1196 k3_t153
  let v1836 : Index := Scalar.indexCast arg13
  let c32_1208 : Index := 32#32
  ![v1836.toNat, 32]
def k3_off614 (i : grid3.Coords) (v398 : BitVec 32) (v403 : BitVec 32) (k3_t153 : Fin (k3_t153_loop i v398 v403).trips) : Fin 2 → Nat :=
  let c256_i32_822 : BitVec 32 := 256#32
  let c0_i32_821 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let c1_i32_1196 : BitVec 32 := 1#32
  let arg13 : BitVec 32 := Scf.iv v1324 c1_i32_1196 k3_t153
  let v1840 : Index := Scalar.indexCast arg13
  let c48_1209 : Index := 48#32
  ![v1840.toNat, 48]
@[reducible] def k3_t154_loop (i : grid3.Coords) (v398 : BitVec 32) (v403 : BitVec 32) : Scf.Loop 32 :=
  let c256_i32_822 : BitVec 32 := 256#32
  let c0_i32_821 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let c256_i32_825 : BitVec 32 := 256#32
  let c0_i32_824 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c512_i32_823 : BitVec 32 := 512#32
  let v1325 : BitVec 32 := Scalar.subi v406 c512_i32_823
  let v1326 : BitVec 32 := Scalar.maxsi c0_i32_824 v1325
  let v1327 : BitVec 32 := Scalar.minsi c256_i32_825 v1326
  let v1805 : BitVec 32 := Scalar.subi v1327 v1324
  let c1_i32_1195 : BitVec 32 := 1#32
  let v1807 : BitVec 32 := Scalar.divsi v1805 c1_i32_1195
  let v1808 : BitVec 32 := Scalar.muli v1807 c1_i32_1195
  let v1809 : BitVec 32 := Scalar.addi v1324 v1808
  let v1806 : BitVec 32 := Scalar.addi v1324 v1805
  let c1_i32_1197 : BitVec 32 := 1#32
  ⟨v1809, v1806, c1_i32_1197⟩
def k3_off615 (i : grid3.Coords) (v398 : BitVec 32) (v403 : BitVec 32) (k3_t154 : Fin (k3_t154_loop i v398 v403).trips) : Fin 2 → Nat :=
  let c256_i32_822 : BitVec 32 := 256#32
  let c0_i32_821 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let c256_i32_825 : BitVec 32 := 256#32
  let c0_i32_824 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c512_i32_823 : BitVec 32 := 512#32
  let v1325 : BitVec 32 := Scalar.subi v406 c512_i32_823
  let v1326 : BitVec 32 := Scalar.maxsi c0_i32_824 v1325
  let v1327 : BitVec 32 := Scalar.minsi c256_i32_825 v1326
  let v1805 : BitVec 32 := Scalar.subi v1327 v1324
  let c1_i32_1195 : BitVec 32 := 1#32
  let v1807 : BitVec 32 := Scalar.divsi v1805 c1_i32_1195
  let v1808 : BitVec 32 := Scalar.muli v1807 c1_i32_1195
  let v1809 : BitVec 32 := Scalar.addi v1324 v1808
  let c1_i32_1197 : BitVec 32 := 1#32
  let arg13 : BitVec 32 := Scf.iv v1809 c1_i32_1197 k3_t154
  let v1828 : Index := Scalar.indexCast arg13
  let c0_1206 : Index := 0#32
  ![v1828.toNat, 0]
def k3_off616 (i : grid3.Coords) (v398 : BitVec 32) (v403 : BitVec 32) (k3_t154 : Fin (k3_t154_loop i v398 v403).trips) : Fin 2 → Nat :=
  let c256_i32_822 : BitVec 32 := 256#32
  let c0_i32_821 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let c256_i32_825 : BitVec 32 := 256#32
  let c0_i32_824 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c512_i32_823 : BitVec 32 := 512#32
  let v1325 : BitVec 32 := Scalar.subi v406 c512_i32_823
  let v1326 : BitVec 32 := Scalar.maxsi c0_i32_824 v1325
  let v1327 : BitVec 32 := Scalar.minsi c256_i32_825 v1326
  let v1805 : BitVec 32 := Scalar.subi v1327 v1324
  let c1_i32_1195 : BitVec 32 := 1#32
  let v1807 : BitVec 32 := Scalar.divsi v1805 c1_i32_1195
  let v1808 : BitVec 32 := Scalar.muli v1807 c1_i32_1195
  let v1809 : BitVec 32 := Scalar.addi v1324 v1808
  let c1_i32_1197 : BitVec 32 := 1#32
  let arg13 : BitVec 32 := Scf.iv v1809 c1_i32_1197 k3_t154
  let v1832 : Index := Scalar.indexCast arg13
  let c16_1207 : Index := 16#32
  ![v1832.toNat, 16]
def k3_off617 (i : grid3.Coords) (v398 : BitVec 32) (v403 : BitVec 32) (k3_t154 : Fin (k3_t154_loop i v398 v403).trips) : Fin 2 → Nat :=
  let c256_i32_822 : BitVec 32 := 256#32
  let c0_i32_821 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let c256_i32_825 : BitVec 32 := 256#32
  let c0_i32_824 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c512_i32_823 : BitVec 32 := 512#32
  let v1325 : BitVec 32 := Scalar.subi v406 c512_i32_823
  let v1326 : BitVec 32 := Scalar.maxsi c0_i32_824 v1325
  let v1327 : BitVec 32 := Scalar.minsi c256_i32_825 v1326
  let v1805 : BitVec 32 := Scalar.subi v1327 v1324
  let c1_i32_1195 : BitVec 32 := 1#32
  let v1807 : BitVec 32 := Scalar.divsi v1805 c1_i32_1195
  let v1808 : BitVec 32 := Scalar.muli v1807 c1_i32_1195
  let v1809 : BitVec 32 := Scalar.addi v1324 v1808
  let c1_i32_1197 : BitVec 32 := 1#32
  let arg13 : BitVec 32 := Scf.iv v1809 c1_i32_1197 k3_t154
  let v1836 : Index := Scalar.indexCast arg13
  let c32_1208 : Index := 32#32
  ![v1836.toNat, 32]
def k3_off618 (i : grid3.Coords) (v398 : BitVec 32) (v403 : BitVec 32) (k3_t154 : Fin (k3_t154_loop i v398 v403).trips) : Fin 2 → Nat :=
  let c256_i32_822 : BitVec 32 := 256#32
  let c0_i32_821 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c512_i32_820 : BitVec 32 := 512#32
  let v1322 : BitVec 32 := Scalar.subi v401 c512_i32_820
  let v1323 : BitVec 32 := Scalar.maxsi c0_i32_821 v1322
  let v1324 : BitVec 32 := Scalar.minsi c256_i32_822 v1323
  let c256_i32_825 : BitVec 32 := 256#32
  let c0_i32_824 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c512_i32_823 : BitVec 32 := 512#32
  let v1325 : BitVec 32 := Scalar.subi v406 c512_i32_823
  let v1326 : BitVec 32 := Scalar.maxsi c0_i32_824 v1325
  let v1327 : BitVec 32 := Scalar.minsi c256_i32_825 v1326
  let v1805 : BitVec 32 := Scalar.subi v1327 v1324
  let c1_i32_1195 : BitVec 32 := 1#32
  let v1807 : BitVec 32 := Scalar.divsi v1805 c1_i32_1195
  let v1808 : BitVec 32 := Scalar.muli v1807 c1_i32_1195
  let v1809 : BitVec 32 := Scalar.addi v1324 v1808
  let c1_i32_1197 : BitVec 32 := 1#32
  let arg13 : BitVec 32 := Scf.iv v1809 c1_i32_1197 k3_t154
  let v1840 : Index := Scalar.indexCast arg13
  let c48_1209 : Index := 48#32
  ![v1840.toNat, 48]
@[reducible] def k3_t155_loop (i : grid3.Coords) (v408 : BitVec 32) (v414 : BitVec 32) : Scf.Loop 32 :=
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let c256_i32_832 : BitVec 32 := 256#32
  let c0_i32_831 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c512_i32_830 : BitVec 32 := 512#32
  let v1334 : BitVec 32 := Scalar.subi v418 c512_i32_830
  let v1335 : BitVec 32 := Scalar.maxsi c0_i32_831 v1334
  let v1336 : BitVec 32 := Scalar.minsi c256_i32_832 v1335
  let v1805 : BitVec 32 := Scalar.subi v1336 v1333
  let c1_i32_1195 : BitVec 32 := 1#32
  let v1807 : BitVec 32 := Scalar.divsi v1805 c1_i32_1195
  let v1808 : BitVec 32 := Scalar.muli v1807 c1_i32_1195
  let v1809 : BitVec 32 := Scalar.addi v1333 v1808
  let c1_i32_1196 : BitVec 32 := 1#32
  ⟨v1333, v1809, c1_i32_1196⟩
def k3_cond78 (i : grid3.Coords) (v408 : BitVec 32) (v414 : BitVec 32) : BitVec 1 :=
  let c256_i32_832 : BitVec 32 := 256#32
  let c0_i32_831 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v416 : BitVec 32 := Scalar.subi v415 v3
  let v417 : BitVec 32 := Scalar.maxsi c0_i32_178 v416
  let v418 : BitVec 32 := Scalar.minsi c1024_i32_179 v417
  let c512_i32_830 : BitVec 32 := 512#32
  let v1334 : BitVec 32 := Scalar.subi v418 c512_i32_830
  let v1335 : BitVec 32 := Scalar.maxsi c0_i32_831 v1334
  let v1336 : BitVec 32 := Scalar.minsi c256_i32_832 v1335
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let v1337 : BitVec 1 := Scalar.cmpi .sgt v1336 v1333
  let v1338 : BitVec 32 := Scalar.extui v1337
  let c0_i32_833 : BitVec 32 := 0#32
  let v1339 : BitVec 1 := Scalar.cmpi .ne v1338 c0_i32_833
  v1339

def k3_off619 (i : grid3.Coords) (v408 : BitVec 32) (v414 : BitVec 32) (k3_t155 : Fin (k3_t155_loop i v408 v414).trips) : Fin 2 → Nat :=
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let c1_i32_1196 : BitVec 32 := 1#32
  let arg13 : BitVec 32 := Scf.iv v1333 c1_i32_1196 k3_t155
  let v1828 : Index := Scalar.indexCast arg13
  let c64 : Index := 64#32
  ![v1828.toNat, 64]
def k3_off620 (i : grid3.Coords) (v408 : BitVec 32) (v414 : BitVec 32) (k3_t155 : Fin (k3_t155_loop i v408 v414).trips) : Fin 2 → Nat :=
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let c1_i32_1196 : BitVec 32 := 1#32
  let arg13 : BitVec 32 := Scf.iv v1333 c1_i32_1196 k3_t155
  let v1832 : Index := Scalar.indexCast arg13
  let c80 : Index := 80#32
  ![v1832.toNat, 80]
def k3_off621 (i : grid3.Coords) (v408 : BitVec 32) (v414 : BitVec 32) (k3_t155 : Fin (k3_t155_loop i v408 v414).trips) : Fin 2 → Nat :=
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let c1_i32_1196 : BitVec 32 := 1#32
  let arg13 : BitVec 32 := Scf.iv v1333 c1_i32_1196 k3_t155
  let v1836 : Index := Scalar.indexCast arg13
  let c96 : Index := 96#32
  ![v1836.toNat, 96]
def k3_off622 (i : grid3.Coords) (v408 : BitVec 32) (v414 : BitVec 32) (k3_t155 : Fin (k3_t155_loop i v408 v414).trips) : Fin 2 → Nat :=
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let c1_i32_1196 : BitVec 32 := 1#32
  let arg13 : BitVec 32 := Scf.iv v1333 c1_i32_1196 k3_t155
  let v1840 : Index := Scalar.indexCast arg13
  let c112 : Index := 112#32
  ![v1840.toNat, 112]
@[reducible] def k3_t156_loop (i : grid3.Coords) (v408 : BitVec 32) (v414 : BitVec 32) : Scf.Loop 32 :=
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let c256_i32_832 : BitVec 32 := 256#32
  let c0_i32_831 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c512_i32_830 : BitVec 32 := 512#32
  let v1334 : BitVec 32 := Scalar.subi v418 c512_i32_830
  let v1335 : BitVec 32 := Scalar.maxsi c0_i32_831 v1334
  let v1336 : BitVec 32 := Scalar.minsi c256_i32_832 v1335
  let v1805 : BitVec 32 := Scalar.subi v1336 v1333
  let c1_i32_1195 : BitVec 32 := 1#32
  let v1807 : BitVec 32 := Scalar.divsi v1805 c1_i32_1195
  let v1808 : BitVec 32 := Scalar.muli v1807 c1_i32_1195
  let v1809 : BitVec 32 := Scalar.addi v1333 v1808
  let v1806 : BitVec 32 := Scalar.addi v1333 v1805
  let c1_i32_1197 : BitVec 32 := 1#32
  ⟨v1809, v1806, c1_i32_1197⟩
def k3_off623 (i : grid3.Coords) (v408 : BitVec 32) (v414 : BitVec 32) (k3_t156 : Fin (k3_t156_loop i v408 v414).trips) : Fin 2 → Nat :=
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let c256_i32_832 : BitVec 32 := 256#32
  let c0_i32_831 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c512_i32_830 : BitVec 32 := 512#32
  let v1334 : BitVec 32 := Scalar.subi v418 c512_i32_830
  let v1335 : BitVec 32 := Scalar.maxsi c0_i32_831 v1334
  let v1336 : BitVec 32 := Scalar.minsi c256_i32_832 v1335
  let v1805 : BitVec 32 := Scalar.subi v1336 v1333
  let c1_i32_1195 : BitVec 32 := 1#32
  let v1807 : BitVec 32 := Scalar.divsi v1805 c1_i32_1195
  let v1808 : BitVec 32 := Scalar.muli v1807 c1_i32_1195
  let v1809 : BitVec 32 := Scalar.addi v1333 v1808
  let c1_i32_1197 : BitVec 32 := 1#32
  let arg13 : BitVec 32 := Scf.iv v1809 c1_i32_1197 k3_t156
  let v1828 : Index := Scalar.indexCast arg13
  let c64 : Index := 64#32
  ![v1828.toNat, 64]
def k3_off624 (i : grid3.Coords) (v408 : BitVec 32) (v414 : BitVec 32) (k3_t156 : Fin (k3_t156_loop i v408 v414).trips) : Fin 2 → Nat :=
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let c256_i32_832 : BitVec 32 := 256#32
  let c0_i32_831 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c512_i32_830 : BitVec 32 := 512#32
  let v1334 : BitVec 32 := Scalar.subi v418 c512_i32_830
  let v1335 : BitVec 32 := Scalar.maxsi c0_i32_831 v1334
  let v1336 : BitVec 32 := Scalar.minsi c256_i32_832 v1335
  let v1805 : BitVec 32 := Scalar.subi v1336 v1333
  let c1_i32_1195 : BitVec 32 := 1#32
  let v1807 : BitVec 32 := Scalar.divsi v1805 c1_i32_1195
  let v1808 : BitVec 32 := Scalar.muli v1807 c1_i32_1195
  let v1809 : BitVec 32 := Scalar.addi v1333 v1808
  let c1_i32_1197 : BitVec 32 := 1#32
  let arg13 : BitVec 32 := Scf.iv v1809 c1_i32_1197 k3_t156
  let v1832 : Index := Scalar.indexCast arg13
  let c80 : Index := 80#32
  ![v1832.toNat, 80]
def k3_off625 (i : grid3.Coords) (v408 : BitVec 32) (v414 : BitVec 32) (k3_t156 : Fin (k3_t156_loop i v408 v414).trips) : Fin 2 → Nat :=
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let c256_i32_832 : BitVec 32 := 256#32
  let c0_i32_831 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c512_i32_830 : BitVec 32 := 512#32
  let v1334 : BitVec 32 := Scalar.subi v418 c512_i32_830
  let v1335 : BitVec 32 := Scalar.maxsi c0_i32_831 v1334
  let v1336 : BitVec 32 := Scalar.minsi c256_i32_832 v1335
  let v1805 : BitVec 32 := Scalar.subi v1336 v1333
  let c1_i32_1195 : BitVec 32 := 1#32
  let v1807 : BitVec 32 := Scalar.divsi v1805 c1_i32_1195
  let v1808 : BitVec 32 := Scalar.muli v1807 c1_i32_1195
  let v1809 : BitVec 32 := Scalar.addi v1333 v1808
  let c1_i32_1197 : BitVec 32 := 1#32
  let arg13 : BitVec 32 := Scf.iv v1809 c1_i32_1197 k3_t156
  let v1836 : Index := Scalar.indexCast arg13
  let c96 : Index := 96#32
  ![v1836.toNat, 96]
def k3_off626 (i : grid3.Coords) (v408 : BitVec 32) (v414 : BitVec 32) (k3_t156 : Fin (k3_t156_loop i v408 v414).trips) : Fin 2 → Nat :=
  let c256_i32_829 : BitVec 32 := 256#32
  let c0_i32_828 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c512_i32_827 : BitVec 32 := 512#32
  let v1331 : BitVec 32 := Scalar.subi v412 c512_i32_827
  let v1332 : BitVec 32 := Scalar.maxsi c0_i32_828 v1331
  let v1333 : BitVec 32 := Scalar.minsi c256_i32_829 v1332
  let c256_i32_832 : BitVec 32 := 256#32
  let c0_i32_831 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c512_i32_830 : BitVec 32 := 512#32
  let v1334 : BitVec 32 := Scalar.subi v418 c512_i32_830
  let v1335 : BitVec 32 := Scalar.maxsi c0_i32_831 v1334
  let v1336 : BitVec 32 := Scalar.minsi c256_i32_832 v1335
  let v1805 : BitVec 32 := Scalar.subi v1336 v1333
  let c1_i32_1195 : BitVec 32 := 1#32
  let v1807 : BitVec 32 := Scalar.divsi v1805 c1_i32_1195
  let v1808 : BitVec 32 := Scalar.muli v1807 c1_i32_1195
  let v1809 : BitVec 32 := Scalar.addi v1333 v1808
  let c1_i32_1197 : BitVec 32 := 1#32
  let arg13 : BitVec 32 := Scf.iv v1809 c1_i32_1197 k3_t156
  let v1840 : Index := Scalar.indexCast arg13
  let c112 : Index := 112#32
  ![v1840.toNat, 112]
@[reducible] def k3_t157_loop (i : grid3.Coords) (v420 : BitVec 32) (v425 : BitVec 32) : Scf.Loop 32 :=
  let c256_i32_836 : BitVec 32 := 256#32
  let c0_i32_835 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let c256_i32_839 : BitVec 32 := 256#32
  let c0_i32_838 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c512_i32_837 : BitVec 32 := 512#32
  let v1343 : BitVec 32 := Scalar.subi v428 c512_i32_837
  let v1344 : BitVec 32 := Scalar.maxsi c0_i32_838 v1343
  let v1345 : BitVec 32 := Scalar.minsi c256_i32_839 v1344
  let v1805 : BitVec 32 := Scalar.subi v1345 v1342
  let c1_i32_1195 : BitVec 32 := 1#32
  let v1807 : BitVec 32 := Scalar.divsi v1805 c1_i32_1195
  let v1808 : BitVec 32 := Scalar.muli v1807 c1_i32_1195
  let v1809 : BitVec 32 := Scalar.addi v1342 v1808
  let c1_i32_1196 : BitVec 32 := 1#32
  ⟨v1342, v1809, c1_i32_1196⟩
def k3_cond79 (i : grid3.Coords) (v420 : BitVec 32) (v425 : BitVec 32) : BitVec 1 :=
  let c256_i32_839 : BitVec 32 := 256#32
  let c0_i32_838 : BitVec 32 := 0#32
  let c1024_i32_183 : BitVec 32 := 1024#32
  let c0_i32_182 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v426 : BitVec 32 := Scalar.subi v425 v3
  let v427 : BitVec 32 := Scalar.maxsi c0_i32_182 v426
  let v428 : BitVec 32 := Scalar.minsi c1024_i32_183 v427
  let c512_i32_837 : BitVec 32 := 512#32
  let v1343 : BitVec 32 := Scalar.subi v428 c512_i32_837
  let v1344 : BitVec 32 := Scalar.maxsi c0_i32_838 v1343
  let v1345 : BitVec 32 := Scalar.minsi c256_i32_839 v1344
  let c256_i32_836 : BitVec 32 := 256#32
  let c0_i32_835 : BitVec 32 := 0#32
  let c1024_i32_181 : BitVec 32 := 1024#32
  let c0_i32_180 : BitVec 32 := 0#32
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let v1346 : BitVec 1 := Scalar.cmpi .sgt v1345 v1342
  let v1347 : BitVec 32 := Scalar.extui v1346
  let c0_i32_840 : BitVec 32 := 0#32
  let v1348 : BitVec 1 := Scalar.cmpi .ne v1347 c0_i32_840
  v1348

def k3_off627 (i : grid3.Coords) (v420 : BitVec 32) (v425 : BitVec 32) (k3_t157 : Fin (k3_t157_loop i v420 v425).trips) : Fin 2 → Nat :=
  let c256_i32_836 : BitVec 32 := 256#32
  let c0_i32_835 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let c1_i32_1196 : BitVec 32 := 1#32
  let arg13 : BitVec 32 := Scf.iv v1342 c1_i32_1196 k3_t157
  let v1828 : Index := Scalar.indexCast arg13
  let c0_1206 : Index := 0#32
  ![v1828.toNat, 0]
def k3_off628 (i : grid3.Coords) (v420 : BitVec 32) (v425 : BitVec 32) (k3_t157 : Fin (k3_t157_loop i v420 v425).trips) : Fin 2 → Nat :=
  let c256_i32_836 : BitVec 32 := 256#32
  let c0_i32_835 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let c1_i32_1196 : BitVec 32 := 1#32
  let arg13 : BitVec 32 := Scf.iv v1342 c1_i32_1196 k3_t157
  let v1832 : Index := Scalar.indexCast arg13
  let c16_1207 : Index := 16#32
  ![v1832.toNat, 16]
def k3_off629 (i : grid3.Coords) (v420 : BitVec 32) (v425 : BitVec 32) (k3_t157 : Fin (k3_t157_loop i v420 v425).trips) : Fin 2 → Nat :=
  let c256_i32_836 : BitVec 32 := 256#32
  let c0_i32_835 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let c1_i32_1196 : BitVec 32 := 1#32
  let arg13 : BitVec 32 := Scf.iv v1342 c1_i32_1196 k3_t157
  let v1836 : Index := Scalar.indexCast arg13
  let c32_1208 : Index := 32#32
  ![v1836.toNat, 32]
def k3_off630 (i : grid3.Coords) (v420 : BitVec 32) (v425 : BitVec 32) (k3_t157 : Fin (k3_t157_loop i v420 v425).trips) : Fin 2 → Nat :=
  let c256_i32_836 : BitVec 32 := 256#32
  let c0_i32_835 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let c1_i32_1196 : BitVec 32 := 1#32
  let arg13 : BitVec 32 := Scf.iv v1342 c1_i32_1196 k3_t157
  let v1840 : Index := Scalar.indexCast arg13
  let c48_1209 : Index := 48#32
  ![v1840.toNat, 48]
@[reducible] def k3_t158_loop (i : grid3.Coords) (v420 : BitVec 32) (v425 : BitVec 32) : Scf.Loop 32 :=
  let c256_i32_836 : BitVec 32 := 256#32
  let c0_i32_835 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let c256_i32_839 : BitVec 32 := 256#32
  let c0_i32_838 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c512_i32_837 : BitVec 32 := 512#32
  let v1343 : BitVec 32 := Scalar.subi v428 c512_i32_837
  let v1344 : BitVec 32 := Scalar.maxsi c0_i32_838 v1343
  let v1345 : BitVec 32 := Scalar.minsi c256_i32_839 v1344
  let v1805 : BitVec 32 := Scalar.subi v1345 v1342
  let c1_i32_1195 : BitVec 32 := 1#32
  let v1807 : BitVec 32 := Scalar.divsi v1805 c1_i32_1195
  let v1808 : BitVec 32 := Scalar.muli v1807 c1_i32_1195
  let v1809 : BitVec 32 := Scalar.addi v1342 v1808
  let v1806 : BitVec 32 := Scalar.addi v1342 v1805
  let c1_i32_1197 : BitVec 32 := 1#32
  ⟨v1809, v1806, c1_i32_1197⟩
def k3_off631 (i : grid3.Coords) (v420 : BitVec 32) (v425 : BitVec 32) (k3_t158 : Fin (k3_t158_loop i v420 v425).trips) : Fin 2 → Nat :=
  let c256_i32_836 : BitVec 32 := 256#32
  let c0_i32_835 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let c256_i32_839 : BitVec 32 := 256#32
  let c0_i32_838 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c512_i32_837 : BitVec 32 := 512#32
  let v1343 : BitVec 32 := Scalar.subi v428 c512_i32_837
  let v1344 : BitVec 32 := Scalar.maxsi c0_i32_838 v1343
  let v1345 : BitVec 32 := Scalar.minsi c256_i32_839 v1344
  let v1805 : BitVec 32 := Scalar.subi v1345 v1342
  let c1_i32_1195 : BitVec 32 := 1#32
  let v1807 : BitVec 32 := Scalar.divsi v1805 c1_i32_1195
  let v1808 : BitVec 32 := Scalar.muli v1807 c1_i32_1195
  let v1809 : BitVec 32 := Scalar.addi v1342 v1808
  let c1_i32_1197 : BitVec 32 := 1#32
  let arg13 : BitVec 32 := Scf.iv v1809 c1_i32_1197 k3_t158
  let v1828 : Index := Scalar.indexCast arg13
  let c0_1206 : Index := 0#32
  ![v1828.toNat, 0]
def k3_off632 (i : grid3.Coords) (v420 : BitVec 32) (v425 : BitVec 32) (k3_t158 : Fin (k3_t158_loop i v420 v425).trips) : Fin 2 → Nat :=
  let c256_i32_836 : BitVec 32 := 256#32
  let c0_i32_835 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let c256_i32_839 : BitVec 32 := 256#32
  let c0_i32_838 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c512_i32_837 : BitVec 32 := 512#32
  let v1343 : BitVec 32 := Scalar.subi v428 c512_i32_837
  let v1344 : BitVec 32 := Scalar.maxsi c0_i32_838 v1343
  let v1345 : BitVec 32 := Scalar.minsi c256_i32_839 v1344
  let v1805 : BitVec 32 := Scalar.subi v1345 v1342
  let c1_i32_1195 : BitVec 32 := 1#32
  let v1807 : BitVec 32 := Scalar.divsi v1805 c1_i32_1195
  let v1808 : BitVec 32 := Scalar.muli v1807 c1_i32_1195
  let v1809 : BitVec 32 := Scalar.addi v1342 v1808
  let c1_i32_1197 : BitVec 32 := 1#32
  let arg13 : BitVec 32 := Scf.iv v1809 c1_i32_1197 k3_t158
  let v1832 : Index := Scalar.indexCast arg13
  let c16_1207 : Index := 16#32
  ![v1832.toNat, 16]
def k3_off633 (i : grid3.Coords) (v420 : BitVec 32) (v425 : BitVec 32) (k3_t158 : Fin (k3_t158_loop i v420 v425).trips) : Fin 2 → Nat :=
  let c256_i32_836 : BitVec 32 := 256#32
  let c0_i32_835 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let c256_i32_839 : BitVec 32 := 256#32
  let c0_i32_838 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c512_i32_837 : BitVec 32 := 512#32
  let v1343 : BitVec 32 := Scalar.subi v428 c512_i32_837
  let v1344 : BitVec 32 := Scalar.maxsi c0_i32_838 v1343
  let v1345 : BitVec 32 := Scalar.minsi c256_i32_839 v1344
  let v1805 : BitVec 32 := Scalar.subi v1345 v1342
  let c1_i32_1195 : BitVec 32 := 1#32
  let v1807 : BitVec 32 := Scalar.divsi v1805 c1_i32_1195
  let v1808 : BitVec 32 := Scalar.muli v1807 c1_i32_1195
  let v1809 : BitVec 32 := Scalar.addi v1342 v1808
  let c1_i32_1197 : BitVec 32 := 1#32
  let arg13 : BitVec 32 := Scf.iv v1809 c1_i32_1197 k3_t158
  let v1836 : Index := Scalar.indexCast arg13
  let c32_1208 : Index := 32#32
  ![v1836.toNat, 32]
def k3_off634 (i : grid3.Coords) (v420 : BitVec 32) (v425 : BitVec 32) (k3_t158 : Fin (k3_t158_loop i v420 v425).trips) : Fin 2 → Nat :=
  let c256_i32_836 : BitVec 32 := 256#32
  let c0_i32_835 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c512_i32_834 : BitVec 32 := 512#32
  let v1340 : BitVec 32 := Scalar.subi v423 c512_i32_834
  let v1341 : BitVec 32 := Scalar.maxsi c0_i32_835 v1340
  let v1342 : BitVec 32 := Scalar.minsi c256_i32_836 v1341
  let c256_i32_839 : BitVec 32 := 256#32
  let c0_i32_838 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c512_i32_837 : BitVec 32 := 512#32
  let v1343 : BitVec 32 := Scalar.subi v428 c512_i32_837
  let v1344 : BitVec 32 := Scalar.maxsi c0_i32_838 v1343
  let v1345 : BitVec 32 := Scalar.minsi c256_i32_839 v1344
  let v1805 : BitVec 32 := Scalar.subi v1345 v1342
  let c1_i32_1195 : BitVec 32 := 1#32
  let v1807 : BitVec 32 := Scalar.divsi v1805 c1_i32_1195
  let v1808 : BitVec 32 := Scalar.muli v1807 c1_i32_1195
  let v1809 : BitVec 32 := Scalar.addi v1342 v1808
  let c1_i32_1197 : BitVec 32 := 1#32
  let arg13 : BitVec 32 := Scf.iv v1809 c1_i32_1197 k3_t158
  let v1840 : Index := Scalar.indexCast arg13
  let c48_1209 : Index := 48#32
  ![v1840.toNat, 48]
@[reducible] def k3_t159_loop (i : grid3.Coords) (v430 : BitVec 32) (v436 : BitVec 32) : Scf.Loop 32 :=
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let c256_i32_846 : BitVec 32 := 256#32
  let c0_i32_845 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c512_i32_844 : BitVec 32 := 512#32
  let v1352 : BitVec 32 := Scalar.subi v440 c512_i32_844
  let v1353 : BitVec 32 := Scalar.maxsi c0_i32_845 v1352
  let v1354 : BitVec 32 := Scalar.minsi c256_i32_846 v1353
  let v1805 : BitVec 32 := Scalar.subi v1354 v1351
  let c1_i32_1195 : BitVec 32 := 1#32
  let v1807 : BitVec 32 := Scalar.divsi v1805 c1_i32_1195
  let v1808 : BitVec 32 := Scalar.muli v1807 c1_i32_1195
  let v1809 : BitVec 32 := Scalar.addi v1351 v1808
  let c1_i32_1196 : BitVec 32 := 1#32
  ⟨v1351, v1809, c1_i32_1196⟩
def k3_cond80 (i : grid3.Coords) (v430 : BitVec 32) (v436 : BitVec 32) : BitVec 1 :=
  let c256_i32_846 : BitVec 32 := 256#32
  let c0_i32_845 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v438 : BitVec 32 := Scalar.subi v437 v3
  let v439 : BitVec 32 := Scalar.maxsi c0_i32_188 v438
  let v440 : BitVec 32 := Scalar.minsi c1024_i32_189 v439
  let c512_i32_844 : BitVec 32 := 512#32
  let v1352 : BitVec 32 := Scalar.subi v440 c512_i32_844
  let v1353 : BitVec 32 := Scalar.maxsi c0_i32_845 v1352
  let v1354 : BitVec 32 := Scalar.minsi c256_i32_846 v1353
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let v1355 : BitVec 1 := Scalar.cmpi .sgt v1354 v1351
  let v1356 : BitVec 32 := Scalar.extui v1355
  let c0_i32_847 : BitVec 32 := 0#32
  let v1357 : BitVec 1 := Scalar.cmpi .ne v1356 c0_i32_847
  v1357

def k3_off635 (i : grid3.Coords) (v430 : BitVec 32) (v436 : BitVec 32) (k3_t159 : Fin (k3_t159_loop i v430 v436).trips) : Fin 2 → Nat :=
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let c1_i32_1196 : BitVec 32 := 1#32
  let arg13 : BitVec 32 := Scf.iv v1351 c1_i32_1196 k3_t159
  let v1828 : Index := Scalar.indexCast arg13
  let c64 : Index := 64#32
  ![v1828.toNat, 64]
def k3_off636 (i : grid3.Coords) (v430 : BitVec 32) (v436 : BitVec 32) (k3_t159 : Fin (k3_t159_loop i v430 v436).trips) : Fin 2 → Nat :=
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let c1_i32_1196 : BitVec 32 := 1#32
  let arg13 : BitVec 32 := Scf.iv v1351 c1_i32_1196 k3_t159
  let v1832 : Index := Scalar.indexCast arg13
  let c80 : Index := 80#32
  ![v1832.toNat, 80]
def k3_off637 (i : grid3.Coords) (v430 : BitVec 32) (v436 : BitVec 32) (k3_t159 : Fin (k3_t159_loop i v430 v436).trips) : Fin 2 → Nat :=
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let c1_i32_1196 : BitVec 32 := 1#32
  let arg13 : BitVec 32 := Scf.iv v1351 c1_i32_1196 k3_t159
  let v1836 : Index := Scalar.indexCast arg13
  let c96 : Index := 96#32
  ![v1836.toNat, 96]
def k3_off638 (i : grid3.Coords) (v430 : BitVec 32) (v436 : BitVec 32) (k3_t159 : Fin (k3_t159_loop i v430 v436).trips) : Fin 2 → Nat :=
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let c1_i32_1196 : BitVec 32 := 1#32
  let arg13 : BitVec 32 := Scf.iv v1351 c1_i32_1196 k3_t159
  let v1840 : Index := Scalar.indexCast arg13
  let c112 : Index := 112#32
  ![v1840.toNat, 112]
@[reducible] def k3_t160_loop (i : grid3.Coords) (v430 : BitVec 32) (v436 : BitVec 32) : Scf.Loop 32 :=
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let c256_i32_846 : BitVec 32 := 256#32
  let c0_i32_845 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c512_i32_844 : BitVec 32 := 512#32
  let v1352 : BitVec 32 := Scalar.subi v440 c512_i32_844
  let v1353 : BitVec 32 := Scalar.maxsi c0_i32_845 v1352
  let v1354 : BitVec 32 := Scalar.minsi c256_i32_846 v1353
  let v1805 : BitVec 32 := Scalar.subi v1354 v1351
  let c1_i32_1195 : BitVec 32 := 1#32
  let v1807 : BitVec 32 := Scalar.divsi v1805 c1_i32_1195
  let v1808 : BitVec 32 := Scalar.muli v1807 c1_i32_1195
  let v1809 : BitVec 32 := Scalar.addi v1351 v1808
  let v1806 : BitVec 32 := Scalar.addi v1351 v1805
  let c1_i32_1197 : BitVec 32 := 1#32
  ⟨v1809, v1806, c1_i32_1197⟩
def k3_off639 (i : grid3.Coords) (v430 : BitVec 32) (v436 : BitVec 32) (k3_t160 : Fin (k3_t160_loop i v430 v436).trips) : Fin 2 → Nat :=
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let c256_i32_846 : BitVec 32 := 256#32
  let c0_i32_845 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c512_i32_844 : BitVec 32 := 512#32
  let v1352 : BitVec 32 := Scalar.subi v440 c512_i32_844
  let v1353 : BitVec 32 := Scalar.maxsi c0_i32_845 v1352
  let v1354 : BitVec 32 := Scalar.minsi c256_i32_846 v1353
  let v1805 : BitVec 32 := Scalar.subi v1354 v1351
  let c1_i32_1195 : BitVec 32 := 1#32
  let v1807 : BitVec 32 := Scalar.divsi v1805 c1_i32_1195
  let v1808 : BitVec 32 := Scalar.muli v1807 c1_i32_1195
  let v1809 : BitVec 32 := Scalar.addi v1351 v1808
  let c1_i32_1197 : BitVec 32 := 1#32
  let arg13 : BitVec 32 := Scf.iv v1809 c1_i32_1197 k3_t160
  let v1828 : Index := Scalar.indexCast arg13
  let c64 : Index := 64#32
  ![v1828.toNat, 64]
def k3_off640 (i : grid3.Coords) (v430 : BitVec 32) (v436 : BitVec 32) (k3_t160 : Fin (k3_t160_loop i v430 v436).trips) : Fin 2 → Nat :=
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let c256_i32_846 : BitVec 32 := 256#32
  let c0_i32_845 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c512_i32_844 : BitVec 32 := 512#32
  let v1352 : BitVec 32 := Scalar.subi v440 c512_i32_844
  let v1353 : BitVec 32 := Scalar.maxsi c0_i32_845 v1352
  let v1354 : BitVec 32 := Scalar.minsi c256_i32_846 v1353
  let v1805 : BitVec 32 := Scalar.subi v1354 v1351
  let c1_i32_1195 : BitVec 32 := 1#32
  let v1807 : BitVec 32 := Scalar.divsi v1805 c1_i32_1195
  let v1808 : BitVec 32 := Scalar.muli v1807 c1_i32_1195
  let v1809 : BitVec 32 := Scalar.addi v1351 v1808
  let c1_i32_1197 : BitVec 32 := 1#32
  let arg13 : BitVec 32 := Scf.iv v1809 c1_i32_1197 k3_t160
  let v1832 : Index := Scalar.indexCast arg13
  let c80 : Index := 80#32
  ![v1832.toNat, 80]
def k3_off641 (i : grid3.Coords) (v430 : BitVec 32) (v436 : BitVec 32) (k3_t160 : Fin (k3_t160_loop i v430 v436).trips) : Fin 2 → Nat :=
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let c256_i32_846 : BitVec 32 := 256#32
  let c0_i32_845 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c512_i32_844 : BitVec 32 := 512#32
  let v1352 : BitVec 32 := Scalar.subi v440 c512_i32_844
  let v1353 : BitVec 32 := Scalar.maxsi c0_i32_845 v1352
  let v1354 : BitVec 32 := Scalar.minsi c256_i32_846 v1353
  let v1805 : BitVec 32 := Scalar.subi v1354 v1351
  let c1_i32_1195 : BitVec 32 := 1#32
  let v1807 : BitVec 32 := Scalar.divsi v1805 c1_i32_1195
  let v1808 : BitVec 32 := Scalar.muli v1807 c1_i32_1195
  let v1809 : BitVec 32 := Scalar.addi v1351 v1808
  let c1_i32_1197 : BitVec 32 := 1#32
  let arg13 : BitVec 32 := Scf.iv v1809 c1_i32_1197 k3_t160
  let v1836 : Index := Scalar.indexCast arg13
  let c96 : Index := 96#32
  ![v1836.toNat, 96]
def k3_off642 (i : grid3.Coords) (v430 : BitVec 32) (v436 : BitVec 32) (k3_t160 : Fin (k3_t160_loop i v430 v436).trips) : Fin 2 → Nat :=
  let c256_i32_843 : BitVec 32 := 256#32
  let c0_i32_842 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c512_i32_841 : BitVec 32 := 512#32
  let v1349 : BitVec 32 := Scalar.subi v434 c512_i32_841
  let v1350 : BitVec 32 := Scalar.maxsi c0_i32_842 v1349
  let v1351 : BitVec 32 := Scalar.minsi c256_i32_843 v1350
  let c256_i32_846 : BitVec 32 := 256#32
  let c0_i32_845 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c512_i32_844 : BitVec 32 := 512#32
  let v1352 : BitVec 32 := Scalar.subi v440 c512_i32_844
  let v1353 : BitVec 32 := Scalar.maxsi c0_i32_845 v1352
  let v1354 : BitVec 32 := Scalar.minsi c256_i32_846 v1353
  let v1805 : BitVec 32 := Scalar.subi v1354 v1351
  let c1_i32_1195 : BitVec 32 := 1#32
  let v1807 : BitVec 32 := Scalar.divsi v1805 c1_i32_1195
  let v1808 : BitVec 32 := Scalar.muli v1807 c1_i32_1195
  let v1809 : BitVec 32 := Scalar.addi v1351 v1808
  let c1_i32_1197 : BitVec 32 := 1#32
  let arg13 : BitVec 32 := Scf.iv v1809 c1_i32_1197 k3_t160
  let v1840 : Index := Scalar.indexCast arg13
  let c112 : Index := 112#32
  ![v1840.toNat, 112]
@[reducible] def k3_t161_loop (i : grid3.Coords) (v442 : BitVec 32) (v447 : BitVec 32) : Scf.Loop 32 :=
  let c256_i32_850 : BitVec 32 := 256#32
  let c0_i32_849 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let c256_i32_853 : BitVec 32 := 256#32
  let c0_i32_852 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c512_i32_851 : BitVec 32 := 512#32
  let v1361 : BitVec 32 := Scalar.subi v450 c512_i32_851
  let v1362 : BitVec 32 := Scalar.maxsi c0_i32_852 v1361
  let v1363 : BitVec 32 := Scalar.minsi c256_i32_853 v1362
  let v1805 : BitVec 32 := Scalar.subi v1363 v1360
  let c1_i32_1195 : BitVec 32 := 1#32
  let v1807 : BitVec 32 := Scalar.divsi v1805 c1_i32_1195
  let v1808 : BitVec 32 := Scalar.muli v1807 c1_i32_1195
  let v1809 : BitVec 32 := Scalar.addi v1360 v1808
  let c1_i32_1196 : BitVec 32 := 1#32
  ⟨v1360, v1809, c1_i32_1196⟩
def k3_cond81 (i : grid3.Coords) (v442 : BitVec 32) (v447 : BitVec 32) : BitVec 1 :=
  let c256_i32_853 : BitVec 32 := 256#32
  let c0_i32_852 : BitVec 32 := 0#32
  let c1024_i32_193 : BitVec 32 := 1024#32
  let c0_i32_192 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v448 : BitVec 32 := Scalar.subi v447 v3
  let v449 : BitVec 32 := Scalar.maxsi c0_i32_192 v448
  let v450 : BitVec 32 := Scalar.minsi c1024_i32_193 v449
  let c512_i32_851 : BitVec 32 := 512#32
  let v1361 : BitVec 32 := Scalar.subi v450 c512_i32_851
  let v1362 : BitVec 32 := Scalar.maxsi c0_i32_852 v1361
  let v1363 : BitVec 32 := Scalar.minsi c256_i32_853 v1362
  let c256_i32_850 : BitVec 32 := 256#32
  let c0_i32_849 : BitVec 32 := 0#32
  let c1024_i32_191 : BitVec 32 := 1024#32
  let c0_i32_190 : BitVec 32 := 0#32
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let v1364 : BitVec 1 := Scalar.cmpi .sgt v1363 v1360
  let v1365 : BitVec 32 := Scalar.extui v1364
  let c0_i32_854 : BitVec 32 := 0#32
  let v1366 : BitVec 1 := Scalar.cmpi .ne v1365 c0_i32_854
  v1366

def k3_off643 (i : grid3.Coords) (v442 : BitVec 32) (v447 : BitVec 32) (k3_t161 : Fin (k3_t161_loop i v442 v447).trips) : Fin 2 → Nat :=
  let c256_i32_850 : BitVec 32 := 256#32
  let c0_i32_849 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let c1_i32_1196 : BitVec 32 := 1#32
  let arg13 : BitVec 32 := Scf.iv v1360 c1_i32_1196 k3_t161
  let v1828 : Index := Scalar.indexCast arg13
  let c0_1206 : Index := 0#32
  ![v1828.toNat, 0]
def k3_off644 (i : grid3.Coords) (v442 : BitVec 32) (v447 : BitVec 32) (k3_t161 : Fin (k3_t161_loop i v442 v447).trips) : Fin 2 → Nat :=
  let c256_i32_850 : BitVec 32 := 256#32
  let c0_i32_849 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let c1_i32_1196 : BitVec 32 := 1#32
  let arg13 : BitVec 32 := Scf.iv v1360 c1_i32_1196 k3_t161
  let v1832 : Index := Scalar.indexCast arg13
  let c16_1207 : Index := 16#32
  ![v1832.toNat, 16]
def k3_off645 (i : grid3.Coords) (v442 : BitVec 32) (v447 : BitVec 32) (k3_t161 : Fin (k3_t161_loop i v442 v447).trips) : Fin 2 → Nat :=
  let c256_i32_850 : BitVec 32 := 256#32
  let c0_i32_849 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let c1_i32_1196 : BitVec 32 := 1#32
  let arg13 : BitVec 32 := Scf.iv v1360 c1_i32_1196 k3_t161
  let v1836 : Index := Scalar.indexCast arg13
  let c32_1208 : Index := 32#32
  ![v1836.toNat, 32]
def k3_off646 (i : grid3.Coords) (v442 : BitVec 32) (v447 : BitVec 32) (k3_t161 : Fin (k3_t161_loop i v442 v447).trips) : Fin 2 → Nat :=
  let c256_i32_850 : BitVec 32 := 256#32
  let c0_i32_849 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let c1_i32_1196 : BitVec 32 := 1#32
  let arg13 : BitVec 32 := Scf.iv v1360 c1_i32_1196 k3_t161
  let v1840 : Index := Scalar.indexCast arg13
  let c48_1209 : Index := 48#32
  ![v1840.toNat, 48]
@[reducible] def k3_t162_loop (i : grid3.Coords) (v442 : BitVec 32) (v447 : BitVec 32) : Scf.Loop 32 :=
  let c256_i32_850 : BitVec 32 := 256#32
  let c0_i32_849 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let c256_i32_853 : BitVec 32 := 256#32
  let c0_i32_852 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c512_i32_851 : BitVec 32 := 512#32
  let v1361 : BitVec 32 := Scalar.subi v450 c512_i32_851
  let v1362 : BitVec 32 := Scalar.maxsi c0_i32_852 v1361
  let v1363 : BitVec 32 := Scalar.minsi c256_i32_853 v1362
  let v1805 : BitVec 32 := Scalar.subi v1363 v1360
  let c1_i32_1195 : BitVec 32 := 1#32
  let v1807 : BitVec 32 := Scalar.divsi v1805 c1_i32_1195
  let v1808 : BitVec 32 := Scalar.muli v1807 c1_i32_1195
  let v1809 : BitVec 32 := Scalar.addi v1360 v1808
  let v1806 : BitVec 32 := Scalar.addi v1360 v1805
  let c1_i32_1197 : BitVec 32 := 1#32
  ⟨v1809, v1806, c1_i32_1197⟩
def k3_off647 (i : grid3.Coords) (v442 : BitVec 32) (v447 : BitVec 32) (k3_t162 : Fin (k3_t162_loop i v442 v447).trips) : Fin 2 → Nat :=
  let c256_i32_850 : BitVec 32 := 256#32
  let c0_i32_849 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let c256_i32_853 : BitVec 32 := 256#32
  let c0_i32_852 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c512_i32_851 : BitVec 32 := 512#32
  let v1361 : BitVec 32 := Scalar.subi v450 c512_i32_851
  let v1362 : BitVec 32 := Scalar.maxsi c0_i32_852 v1361
  let v1363 : BitVec 32 := Scalar.minsi c256_i32_853 v1362
  let v1805 : BitVec 32 := Scalar.subi v1363 v1360
  let c1_i32_1195 : BitVec 32 := 1#32
  let v1807 : BitVec 32 := Scalar.divsi v1805 c1_i32_1195
  let v1808 : BitVec 32 := Scalar.muli v1807 c1_i32_1195
  let v1809 : BitVec 32 := Scalar.addi v1360 v1808
  let c1_i32_1197 : BitVec 32 := 1#32
  let arg13 : BitVec 32 := Scf.iv v1809 c1_i32_1197 k3_t162
  let v1828 : Index := Scalar.indexCast arg13
  let c0_1206 : Index := 0#32
  ![v1828.toNat, 0]
def k3_off648 (i : grid3.Coords) (v442 : BitVec 32) (v447 : BitVec 32) (k3_t162 : Fin (k3_t162_loop i v442 v447).trips) : Fin 2 → Nat :=
  let c256_i32_850 : BitVec 32 := 256#32
  let c0_i32_849 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let c256_i32_853 : BitVec 32 := 256#32
  let c0_i32_852 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c512_i32_851 : BitVec 32 := 512#32
  let v1361 : BitVec 32 := Scalar.subi v450 c512_i32_851
  let v1362 : BitVec 32 := Scalar.maxsi c0_i32_852 v1361
  let v1363 : BitVec 32 := Scalar.minsi c256_i32_853 v1362
  let v1805 : BitVec 32 := Scalar.subi v1363 v1360
  let c1_i32_1195 : BitVec 32 := 1#32
  let v1807 : BitVec 32 := Scalar.divsi v1805 c1_i32_1195
  let v1808 : BitVec 32 := Scalar.muli v1807 c1_i32_1195
  let v1809 : BitVec 32 := Scalar.addi v1360 v1808
  let c1_i32_1197 : BitVec 32 := 1#32
  let arg13 : BitVec 32 := Scf.iv v1809 c1_i32_1197 k3_t162
  let v1832 : Index := Scalar.indexCast arg13
  let c16_1207 : Index := 16#32
  ![v1832.toNat, 16]
def k3_off649 (i : grid3.Coords) (v442 : BitVec 32) (v447 : BitVec 32) (k3_t162 : Fin (k3_t162_loop i v442 v447).trips) : Fin 2 → Nat :=
  let c256_i32_850 : BitVec 32 := 256#32
  let c0_i32_849 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let c256_i32_853 : BitVec 32 := 256#32
  let c0_i32_852 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c512_i32_851 : BitVec 32 := 512#32
  let v1361 : BitVec 32 := Scalar.subi v450 c512_i32_851
  let v1362 : BitVec 32 := Scalar.maxsi c0_i32_852 v1361
  let v1363 : BitVec 32 := Scalar.minsi c256_i32_853 v1362
  let v1805 : BitVec 32 := Scalar.subi v1363 v1360
  let c1_i32_1195 : BitVec 32 := 1#32
  let v1807 : BitVec 32 := Scalar.divsi v1805 c1_i32_1195
  let v1808 : BitVec 32 := Scalar.muli v1807 c1_i32_1195
  let v1809 : BitVec 32 := Scalar.addi v1360 v1808
  let c1_i32_1197 : BitVec 32 := 1#32
  let arg13 : BitVec 32 := Scf.iv v1809 c1_i32_1197 k3_t162
  let v1836 : Index := Scalar.indexCast arg13
  let c32_1208 : Index := 32#32
  ![v1836.toNat, 32]
def k3_off650 (i : grid3.Coords) (v442 : BitVec 32) (v447 : BitVec 32) (k3_t162 : Fin (k3_t162_loop i v442 v447).trips) : Fin 2 → Nat :=
  let c256_i32_850 : BitVec 32 := 256#32
  let c0_i32_849 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c512_i32_848 : BitVec 32 := 512#32
  let v1358 : BitVec 32 := Scalar.subi v445 c512_i32_848
  let v1359 : BitVec 32 := Scalar.maxsi c0_i32_849 v1358
  let v1360 : BitVec 32 := Scalar.minsi c256_i32_850 v1359
  let c256_i32_853 : BitVec 32 := 256#32
  let c0_i32_852 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c512_i32_851 : BitVec 32 := 512#32
  let v1361 : BitVec 32 := Scalar.subi v450 c512_i32_851
  let v1362 : BitVec 32 := Scalar.maxsi c0_i32_852 v1361
  let v1363 : BitVec 32 := Scalar.minsi c256_i32_853 v1362
  let v1805 : BitVec 32 := Scalar.subi v1363 v1360
  let c1_i32_1195 : BitVec 32 := 1#32
  let v1807 : BitVec 32 := Scalar.divsi v1805 c1_i32_1195
  let v1808 : BitVec 32 := Scalar.muli v1807 c1_i32_1195
  let v1809 : BitVec 32 := Scalar.addi v1360 v1808
  let c1_i32_1197 : BitVec 32 := 1#32
  let arg13 : BitVec 32 := Scf.iv v1809 c1_i32_1197 k3_t162
  let v1840 : Index := Scalar.indexCast arg13
  let c48_1209 : Index := 48#32
  ![v1840.toNat, 48]
@[reducible] def k3_t163_loop (i : grid3.Coords) (v452 : BitVec 32) (v458 : BitVec 32) : Scf.Loop 32 :=
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let c256_i32_860 : BitVec 32 := 256#32
  let c0_i32_859 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c512_i32_858 : BitVec 32 := 512#32
  let v1370 : BitVec 32 := Scalar.subi v462 c512_i32_858
  let v1371 : BitVec 32 := Scalar.maxsi c0_i32_859 v1370
  let v1372 : BitVec 32 := Scalar.minsi c256_i32_860 v1371
  let v1805 : BitVec 32 := Scalar.subi v1372 v1369
  let c1_i32_1195 : BitVec 32 := 1#32
  let v1807 : BitVec 32 := Scalar.divsi v1805 c1_i32_1195
  let v1808 : BitVec 32 := Scalar.muli v1807 c1_i32_1195
  let v1809 : BitVec 32 := Scalar.addi v1369 v1808
  let c1_i32_1196 : BitVec 32 := 1#32
  ⟨v1369, v1809, c1_i32_1196⟩
def k3_cond82 (i : grid3.Coords) (v452 : BitVec 32) (v458 : BitVec 32) : BitVec 1 :=
  let c256_i32_860 : BitVec 32 := 256#32
  let c0_i32_859 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v460 : BitVec 32 := Scalar.subi v459 v3
  let v461 : BitVec 32 := Scalar.maxsi c0_i32_198 v460
  let v462 : BitVec 32 := Scalar.minsi c1024_i32_199 v461
  let c512_i32_858 : BitVec 32 := 512#32
  let v1370 : BitVec 32 := Scalar.subi v462 c512_i32_858
  let v1371 : BitVec 32 := Scalar.maxsi c0_i32_859 v1370
  let v1372 : BitVec 32 := Scalar.minsi c256_i32_860 v1371
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let v1373 : BitVec 1 := Scalar.cmpi .sgt v1372 v1369
  let v1374 : BitVec 32 := Scalar.extui v1373
  let c0_i32_861 : BitVec 32 := 0#32
  let v1375 : BitVec 1 := Scalar.cmpi .ne v1374 c0_i32_861
  v1375

def k3_off651 (i : grid3.Coords) (v452 : BitVec 32) (v458 : BitVec 32) (k3_t163 : Fin (k3_t163_loop i v452 v458).trips) : Fin 2 → Nat :=
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let c1_i32_1196 : BitVec 32 := 1#32
  let arg13 : BitVec 32 := Scf.iv v1369 c1_i32_1196 k3_t163
  let v1828 : Index := Scalar.indexCast arg13
  let c64 : Index := 64#32
  ![v1828.toNat, 64]
def k3_off652 (i : grid3.Coords) (v452 : BitVec 32) (v458 : BitVec 32) (k3_t163 : Fin (k3_t163_loop i v452 v458).trips) : Fin 2 → Nat :=
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let c1_i32_1196 : BitVec 32 := 1#32
  let arg13 : BitVec 32 := Scf.iv v1369 c1_i32_1196 k3_t163
  let v1832 : Index := Scalar.indexCast arg13
  let c80 : Index := 80#32
  ![v1832.toNat, 80]
def k3_off653 (i : grid3.Coords) (v452 : BitVec 32) (v458 : BitVec 32) (k3_t163 : Fin (k3_t163_loop i v452 v458).trips) : Fin 2 → Nat :=
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let c1_i32_1196 : BitVec 32 := 1#32
  let arg13 : BitVec 32 := Scf.iv v1369 c1_i32_1196 k3_t163
  let v1836 : Index := Scalar.indexCast arg13
  let c96 : Index := 96#32
  ![v1836.toNat, 96]
def k3_off654 (i : grid3.Coords) (v452 : BitVec 32) (v458 : BitVec 32) (k3_t163 : Fin (k3_t163_loop i v452 v458).trips) : Fin 2 → Nat :=
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let c1_i32_1196 : BitVec 32 := 1#32
  let arg13 : BitVec 32 := Scf.iv v1369 c1_i32_1196 k3_t163
  let v1840 : Index := Scalar.indexCast arg13
  let c112 : Index := 112#32
  ![v1840.toNat, 112]
@[reducible] def k3_t164_loop (i : grid3.Coords) (v452 : BitVec 32) (v458 : BitVec 32) : Scf.Loop 32 :=
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let c256_i32_860 : BitVec 32 := 256#32
  let c0_i32_859 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c512_i32_858 : BitVec 32 := 512#32
  let v1370 : BitVec 32 := Scalar.subi v462 c512_i32_858
  let v1371 : BitVec 32 := Scalar.maxsi c0_i32_859 v1370
  let v1372 : BitVec 32 := Scalar.minsi c256_i32_860 v1371
  let v1805 : BitVec 32 := Scalar.subi v1372 v1369
  let c1_i32_1195 : BitVec 32 := 1#32
  let v1807 : BitVec 32 := Scalar.divsi v1805 c1_i32_1195
  let v1808 : BitVec 32 := Scalar.muli v1807 c1_i32_1195
  let v1809 : BitVec 32 := Scalar.addi v1369 v1808
  let v1806 : BitVec 32 := Scalar.addi v1369 v1805
  let c1_i32_1197 : BitVec 32 := 1#32
  ⟨v1809, v1806, c1_i32_1197⟩
def k3_off655 (i : grid3.Coords) (v452 : BitVec 32) (v458 : BitVec 32) (k3_t164 : Fin (k3_t164_loop i v452 v458).trips) : Fin 2 → Nat :=
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let c256_i32_860 : BitVec 32 := 256#32
  let c0_i32_859 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c512_i32_858 : BitVec 32 := 512#32
  let v1370 : BitVec 32 := Scalar.subi v462 c512_i32_858
  let v1371 : BitVec 32 := Scalar.maxsi c0_i32_859 v1370
  let v1372 : BitVec 32 := Scalar.minsi c256_i32_860 v1371
  let v1805 : BitVec 32 := Scalar.subi v1372 v1369
  let c1_i32_1195 : BitVec 32 := 1#32
  let v1807 : BitVec 32 := Scalar.divsi v1805 c1_i32_1195
  let v1808 : BitVec 32 := Scalar.muli v1807 c1_i32_1195
  let v1809 : BitVec 32 := Scalar.addi v1369 v1808
  let c1_i32_1197 : BitVec 32 := 1#32
  let arg13 : BitVec 32 := Scf.iv v1809 c1_i32_1197 k3_t164
  let v1828 : Index := Scalar.indexCast arg13
  let c64 : Index := 64#32
  ![v1828.toNat, 64]
def k3_off656 (i : grid3.Coords) (v452 : BitVec 32) (v458 : BitVec 32) (k3_t164 : Fin (k3_t164_loop i v452 v458).trips) : Fin 2 → Nat :=
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let c256_i32_860 : BitVec 32 := 256#32
  let c0_i32_859 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c512_i32_858 : BitVec 32 := 512#32
  let v1370 : BitVec 32 := Scalar.subi v462 c512_i32_858
  let v1371 : BitVec 32 := Scalar.maxsi c0_i32_859 v1370
  let v1372 : BitVec 32 := Scalar.minsi c256_i32_860 v1371
  let v1805 : BitVec 32 := Scalar.subi v1372 v1369
  let c1_i32_1195 : BitVec 32 := 1#32
  let v1807 : BitVec 32 := Scalar.divsi v1805 c1_i32_1195
  let v1808 : BitVec 32 := Scalar.muli v1807 c1_i32_1195
  let v1809 : BitVec 32 := Scalar.addi v1369 v1808
  let c1_i32_1197 : BitVec 32 := 1#32
  let arg13 : BitVec 32 := Scf.iv v1809 c1_i32_1197 k3_t164
  let v1832 : Index := Scalar.indexCast arg13
  let c80 : Index := 80#32
  ![v1832.toNat, 80]
def k3_off657 (i : grid3.Coords) (v452 : BitVec 32) (v458 : BitVec 32) (k3_t164 : Fin (k3_t164_loop i v452 v458).trips) : Fin 2 → Nat :=
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let c256_i32_860 : BitVec 32 := 256#32
  let c0_i32_859 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c512_i32_858 : BitVec 32 := 512#32
  let v1370 : BitVec 32 := Scalar.subi v462 c512_i32_858
  let v1371 : BitVec 32 := Scalar.maxsi c0_i32_859 v1370
  let v1372 : BitVec 32 := Scalar.minsi c256_i32_860 v1371
  let v1805 : BitVec 32 := Scalar.subi v1372 v1369
  let c1_i32_1195 : BitVec 32 := 1#32
  let v1807 : BitVec 32 := Scalar.divsi v1805 c1_i32_1195
  let v1808 : BitVec 32 := Scalar.muli v1807 c1_i32_1195
  let v1809 : BitVec 32 := Scalar.addi v1369 v1808
  let c1_i32_1197 : BitVec 32 := 1#32
  let arg13 : BitVec 32 := Scf.iv v1809 c1_i32_1197 k3_t164
  let v1836 : Index := Scalar.indexCast arg13
  let c96 : Index := 96#32
  ![v1836.toNat, 96]
def k3_off658 (i : grid3.Coords) (v452 : BitVec 32) (v458 : BitVec 32) (k3_t164 : Fin (k3_t164_loop i v452 v458).trips) : Fin 2 → Nat :=
  let c256_i32_857 : BitVec 32 := 256#32
  let c0_i32_856 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c512_i32_855 : BitVec 32 := 512#32
  let v1367 : BitVec 32 := Scalar.subi v456 c512_i32_855
  let v1368 : BitVec 32 := Scalar.maxsi c0_i32_856 v1367
  let v1369 : BitVec 32 := Scalar.minsi c256_i32_857 v1368
  let c256_i32_860 : BitVec 32 := 256#32
  let c0_i32_859 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c512_i32_858 : BitVec 32 := 512#32
  let v1370 : BitVec 32 := Scalar.subi v462 c512_i32_858
  let v1371 : BitVec 32 := Scalar.maxsi c0_i32_859 v1370
  let v1372 : BitVec 32 := Scalar.minsi c256_i32_860 v1371
  let v1805 : BitVec 32 := Scalar.subi v1372 v1369
  let c1_i32_1195 : BitVec 32 := 1#32
  let v1807 : BitVec 32 := Scalar.divsi v1805 c1_i32_1195
  let v1808 : BitVec 32 := Scalar.muli v1807 c1_i32_1195
  let v1809 : BitVec 32 := Scalar.addi v1369 v1808
  let c1_i32_1197 : BitVec 32 := 1#32
  let arg13 : BitVec 32 := Scf.iv v1809 c1_i32_1197 k3_t164
  let v1840 : Index := Scalar.indexCast arg13
  let c112 : Index := 112#32
  ![v1840.toNat, 112]
@[reducible] def k3_t165_loop (i : grid3.Coords) (v464 : BitVec 32) (v469 : BitVec 32) : Scf.Loop 32 :=
  let c256_i32_864 : BitVec 32 := 256#32
  let c0_i32_863 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let c256_i32_867 : BitVec 32 := 256#32
  let c0_i32_866 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c512_i32_865 : BitVec 32 := 512#32
  let v1379 : BitVec 32 := Scalar.subi v472 c512_i32_865
  let v1380 : BitVec 32 := Scalar.maxsi c0_i32_866 v1379
  let v1381 : BitVec 32 := Scalar.minsi c256_i32_867 v1380
  let v1805 : BitVec 32 := Scalar.subi v1381 v1378
  let c1_i32_1195 : BitVec 32 := 1#32
  let v1807 : BitVec 32 := Scalar.divsi v1805 c1_i32_1195
  let v1808 : BitVec 32 := Scalar.muli v1807 c1_i32_1195
  let v1809 : BitVec 32 := Scalar.addi v1378 v1808
  let c1_i32_1196 : BitVec 32 := 1#32
  ⟨v1378, v1809, c1_i32_1196⟩
def k3_cond83 (i : grid3.Coords) (v464 : BitVec 32) (v469 : BitVec 32) : BitVec 1 :=
  let c256_i32_867 : BitVec 32 := 256#32
  let c0_i32_866 : BitVec 32 := 0#32
  let c1024_i32_203 : BitVec 32 := 1024#32
  let c0_i32_202 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v470 : BitVec 32 := Scalar.subi v469 v3
  let v471 : BitVec 32 := Scalar.maxsi c0_i32_202 v470
  let v472 : BitVec 32 := Scalar.minsi c1024_i32_203 v471
  let c512_i32_865 : BitVec 32 := 512#32
  let v1379 : BitVec 32 := Scalar.subi v472 c512_i32_865
  let v1380 : BitVec 32 := Scalar.maxsi c0_i32_866 v1379
  let v1381 : BitVec 32 := Scalar.minsi c256_i32_867 v1380
  let c256_i32_864 : BitVec 32 := 256#32
  let c0_i32_863 : BitVec 32 := 0#32
  let c1024_i32_201 : BitVec 32 := 1024#32
  let c0_i32_200 : BitVec 32 := 0#32
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let v1382 : BitVec 1 := Scalar.cmpi .sgt v1381 v1378
  let v1383 : BitVec 32 := Scalar.extui v1382
  let c0_i32_868 : BitVec 32 := 0#32
  let v1384 : BitVec 1 := Scalar.cmpi .ne v1383 c0_i32_868
  v1384

def k3_off659 (i : grid3.Coords) (v464 : BitVec 32) (v469 : BitVec 32) (k3_t165 : Fin (k3_t165_loop i v464 v469).trips) : Fin 2 → Nat :=
  let c256_i32_864 : BitVec 32 := 256#32
  let c0_i32_863 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let c1_i32_1196 : BitVec 32 := 1#32
  let arg13 : BitVec 32 := Scf.iv v1378 c1_i32_1196 k3_t165
  let v1828 : Index := Scalar.indexCast arg13
  let c0_1206 : Index := 0#32
  ![v1828.toNat, 0]
def k3_off660 (i : grid3.Coords) (v464 : BitVec 32) (v469 : BitVec 32) (k3_t165 : Fin (k3_t165_loop i v464 v469).trips) : Fin 2 → Nat :=
  let c256_i32_864 : BitVec 32 := 256#32
  let c0_i32_863 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let c1_i32_1196 : BitVec 32 := 1#32
  let arg13 : BitVec 32 := Scf.iv v1378 c1_i32_1196 k3_t165
  let v1832 : Index := Scalar.indexCast arg13
  let c16_1207 : Index := 16#32
  ![v1832.toNat, 16]
def k3_off661 (i : grid3.Coords) (v464 : BitVec 32) (v469 : BitVec 32) (k3_t165 : Fin (k3_t165_loop i v464 v469).trips) : Fin 2 → Nat :=
  let c256_i32_864 : BitVec 32 := 256#32
  let c0_i32_863 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let c1_i32_1196 : BitVec 32 := 1#32
  let arg13 : BitVec 32 := Scf.iv v1378 c1_i32_1196 k3_t165
  let v1836 : Index := Scalar.indexCast arg13
  let c32_1208 : Index := 32#32
  ![v1836.toNat, 32]
def k3_off662 (i : grid3.Coords) (v464 : BitVec 32) (v469 : BitVec 32) (k3_t165 : Fin (k3_t165_loop i v464 v469).trips) : Fin 2 → Nat :=
  let c256_i32_864 : BitVec 32 := 256#32
  let c0_i32_863 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let c1_i32_1196 : BitVec 32 := 1#32
  let arg13 : BitVec 32 := Scf.iv v1378 c1_i32_1196 k3_t165
  let v1840 : Index := Scalar.indexCast arg13
  let c48_1209 : Index := 48#32
  ![v1840.toNat, 48]
@[reducible] def k3_t166_loop (i : grid3.Coords) (v464 : BitVec 32) (v469 : BitVec 32) : Scf.Loop 32 :=
  let c256_i32_864 : BitVec 32 := 256#32
  let c0_i32_863 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let c256_i32_867 : BitVec 32 := 256#32
  let c0_i32_866 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c512_i32_865 : BitVec 32 := 512#32
  let v1379 : BitVec 32 := Scalar.subi v472 c512_i32_865
  let v1380 : BitVec 32 := Scalar.maxsi c0_i32_866 v1379
  let v1381 : BitVec 32 := Scalar.minsi c256_i32_867 v1380
  let v1805 : BitVec 32 := Scalar.subi v1381 v1378
  let c1_i32_1195 : BitVec 32 := 1#32
  let v1807 : BitVec 32 := Scalar.divsi v1805 c1_i32_1195
  let v1808 : BitVec 32 := Scalar.muli v1807 c1_i32_1195
  let v1809 : BitVec 32 := Scalar.addi v1378 v1808
  let v1806 : BitVec 32 := Scalar.addi v1378 v1805
  let c1_i32_1197 : BitVec 32 := 1#32
  ⟨v1809, v1806, c1_i32_1197⟩
def k3_off663 (i : grid3.Coords) (v464 : BitVec 32) (v469 : BitVec 32) (k3_t166 : Fin (k3_t166_loop i v464 v469).trips) : Fin 2 → Nat :=
  let c256_i32_864 : BitVec 32 := 256#32
  let c0_i32_863 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let c256_i32_867 : BitVec 32 := 256#32
  let c0_i32_866 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c512_i32_865 : BitVec 32 := 512#32
  let v1379 : BitVec 32 := Scalar.subi v472 c512_i32_865
  let v1380 : BitVec 32 := Scalar.maxsi c0_i32_866 v1379
  let v1381 : BitVec 32 := Scalar.minsi c256_i32_867 v1380
  let v1805 : BitVec 32 := Scalar.subi v1381 v1378
  let c1_i32_1195 : BitVec 32 := 1#32
  let v1807 : BitVec 32 := Scalar.divsi v1805 c1_i32_1195
  let v1808 : BitVec 32 := Scalar.muli v1807 c1_i32_1195
  let v1809 : BitVec 32 := Scalar.addi v1378 v1808
  let c1_i32_1197 : BitVec 32 := 1#32
  let arg13 : BitVec 32 := Scf.iv v1809 c1_i32_1197 k3_t166
  let v1828 : Index := Scalar.indexCast arg13
  let c0_1206 : Index := 0#32
  ![v1828.toNat, 0]
def k3_off664 (i : grid3.Coords) (v464 : BitVec 32) (v469 : BitVec 32) (k3_t166 : Fin (k3_t166_loop i v464 v469).trips) : Fin 2 → Nat :=
  let c256_i32_864 : BitVec 32 := 256#32
  let c0_i32_863 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let c256_i32_867 : BitVec 32 := 256#32
  let c0_i32_866 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c512_i32_865 : BitVec 32 := 512#32
  let v1379 : BitVec 32 := Scalar.subi v472 c512_i32_865
  let v1380 : BitVec 32 := Scalar.maxsi c0_i32_866 v1379
  let v1381 : BitVec 32 := Scalar.minsi c256_i32_867 v1380
  let v1805 : BitVec 32 := Scalar.subi v1381 v1378
  let c1_i32_1195 : BitVec 32 := 1#32
  let v1807 : BitVec 32 := Scalar.divsi v1805 c1_i32_1195
  let v1808 : BitVec 32 := Scalar.muli v1807 c1_i32_1195
  let v1809 : BitVec 32 := Scalar.addi v1378 v1808
  let c1_i32_1197 : BitVec 32 := 1#32
  let arg13 : BitVec 32 := Scf.iv v1809 c1_i32_1197 k3_t166
  let v1832 : Index := Scalar.indexCast arg13
  let c16_1207 : Index := 16#32
  ![v1832.toNat, 16]
def k3_off665 (i : grid3.Coords) (v464 : BitVec 32) (v469 : BitVec 32) (k3_t166 : Fin (k3_t166_loop i v464 v469).trips) : Fin 2 → Nat :=
  let c256_i32_864 : BitVec 32 := 256#32
  let c0_i32_863 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let c256_i32_867 : BitVec 32 := 256#32
  let c0_i32_866 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c512_i32_865 : BitVec 32 := 512#32
  let v1379 : BitVec 32 := Scalar.subi v472 c512_i32_865
  let v1380 : BitVec 32 := Scalar.maxsi c0_i32_866 v1379
  let v1381 : BitVec 32 := Scalar.minsi c256_i32_867 v1380
  let v1805 : BitVec 32 := Scalar.subi v1381 v1378
  let c1_i32_1195 : BitVec 32 := 1#32
  let v1807 : BitVec 32 := Scalar.divsi v1805 c1_i32_1195
  let v1808 : BitVec 32 := Scalar.muli v1807 c1_i32_1195
  let v1809 : BitVec 32 := Scalar.addi v1378 v1808
  let c1_i32_1197 : BitVec 32 := 1#32
  let arg13 : BitVec 32 := Scf.iv v1809 c1_i32_1197 k3_t166
  let v1836 : Index := Scalar.indexCast arg13
  let c32_1208 : Index := 32#32
  ![v1836.toNat, 32]
def k3_off666 (i : grid3.Coords) (v464 : BitVec 32) (v469 : BitVec 32) (k3_t166 : Fin (k3_t166_loop i v464 v469).trips) : Fin 2 → Nat :=
  let c256_i32_864 : BitVec 32 := 256#32
  let c0_i32_863 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c512_i32_862 : BitVec 32 := 512#32
  let v1376 : BitVec 32 := Scalar.subi v467 c512_i32_862
  let v1377 : BitVec 32 := Scalar.maxsi c0_i32_863 v1376
  let v1378 : BitVec 32 := Scalar.minsi c256_i32_864 v1377
  let c256_i32_867 : BitVec 32 := 256#32
  let c0_i32_866 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c512_i32_865 : BitVec 32 := 512#32
  let v1379 : BitVec 32 := Scalar.subi v472 c512_i32_865
  let v1380 : BitVec 32 := Scalar.maxsi c0_i32_866 v1379
  let v1381 : BitVec 32 := Scalar.minsi c256_i32_867 v1380
  let v1805 : BitVec 32 := Scalar.subi v1381 v1378
  let c1_i32_1195 : BitVec 32 := 1#32
  let v1807 : BitVec 32 := Scalar.divsi v1805 c1_i32_1195
  let v1808 : BitVec 32 := Scalar.muli v1807 c1_i32_1195
  let v1809 : BitVec 32 := Scalar.addi v1378 v1808
  let c1_i32_1197 : BitVec 32 := 1#32
  let arg13 : BitVec 32 := Scf.iv v1809 c1_i32_1197 k3_t166
  let v1840 : Index := Scalar.indexCast arg13
  let c48_1209 : Index := 48#32
  ![v1840.toNat, 48]
@[reducible] def k3_t167_loop (i : grid3.Coords) (v474 : BitVec 32) (v480 : BitVec 32) : Scf.Loop 32 :=
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let c256_i32_874 : BitVec 32 := 256#32
  let c0_i32_873 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c512_i32_872 : BitVec 32 := 512#32
  let v1388 : BitVec 32 := Scalar.subi v484 c512_i32_872
  let v1389 : BitVec 32 := Scalar.maxsi c0_i32_873 v1388
  let v1390 : BitVec 32 := Scalar.minsi c256_i32_874 v1389
  let v1805 : BitVec 32 := Scalar.subi v1390 v1387
  let c1_i32_1195 : BitVec 32 := 1#32
  let v1807 : BitVec 32 := Scalar.divsi v1805 c1_i32_1195
  let v1808 : BitVec 32 := Scalar.muli v1807 c1_i32_1195
  let v1809 : BitVec 32 := Scalar.addi v1387 v1808
  let c1_i32_1196 : BitVec 32 := 1#32
  ⟨v1387, v1809, c1_i32_1196⟩
def k3_cond84 (i : grid3.Coords) (v474 : BitVec 32) (v480 : BitVec 32) : BitVec 1 :=
  let c256_i32_874 : BitVec 32 := 256#32
  let c0_i32_873 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v482 : BitVec 32 := Scalar.subi v481 v3
  let v483 : BitVec 32 := Scalar.maxsi c0_i32_208 v482
  let v484 : BitVec 32 := Scalar.minsi c1024_i32_209 v483
  let c512_i32_872 : BitVec 32 := 512#32
  let v1388 : BitVec 32 := Scalar.subi v484 c512_i32_872
  let v1389 : BitVec 32 := Scalar.maxsi c0_i32_873 v1388
  let v1390 : BitVec 32 := Scalar.minsi c256_i32_874 v1389
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let v1391 : BitVec 1 := Scalar.cmpi .sgt v1390 v1387
  let v1392 : BitVec 32 := Scalar.extui v1391
  let c0_i32_875 : BitVec 32 := 0#32
  let v1393 : BitVec 1 := Scalar.cmpi .ne v1392 c0_i32_875
  v1393

def k3_off667 (i : grid3.Coords) (v474 : BitVec 32) (v480 : BitVec 32) (k3_t167 : Fin (k3_t167_loop i v474 v480).trips) : Fin 2 → Nat :=
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let c1_i32_1196 : BitVec 32 := 1#32
  let arg13 : BitVec 32 := Scf.iv v1387 c1_i32_1196 k3_t167
  let v1828 : Index := Scalar.indexCast arg13
  let c64 : Index := 64#32
  ![v1828.toNat, 64]
def k3_off668 (i : grid3.Coords) (v474 : BitVec 32) (v480 : BitVec 32) (k3_t167 : Fin (k3_t167_loop i v474 v480).trips) : Fin 2 → Nat :=
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let c1_i32_1196 : BitVec 32 := 1#32
  let arg13 : BitVec 32 := Scf.iv v1387 c1_i32_1196 k3_t167
  let v1832 : Index := Scalar.indexCast arg13
  let c80 : Index := 80#32
  ![v1832.toNat, 80]
def k3_off669 (i : grid3.Coords) (v474 : BitVec 32) (v480 : BitVec 32) (k3_t167 : Fin (k3_t167_loop i v474 v480).trips) : Fin 2 → Nat :=
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let c1_i32_1196 : BitVec 32 := 1#32
  let arg13 : BitVec 32 := Scf.iv v1387 c1_i32_1196 k3_t167
  let v1836 : Index := Scalar.indexCast arg13
  let c96 : Index := 96#32
  ![v1836.toNat, 96]
def k3_off670 (i : grid3.Coords) (v474 : BitVec 32) (v480 : BitVec 32) (k3_t167 : Fin (k3_t167_loop i v474 v480).trips) : Fin 2 → Nat :=
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let c1_i32_1196 : BitVec 32 := 1#32
  let arg13 : BitVec 32 := Scf.iv v1387 c1_i32_1196 k3_t167
  let v1840 : Index := Scalar.indexCast arg13
  let c112 : Index := 112#32
  ![v1840.toNat, 112]
@[reducible] def k3_t168_loop (i : grid3.Coords) (v474 : BitVec 32) (v480 : BitVec 32) : Scf.Loop 32 :=
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let c256_i32_874 : BitVec 32 := 256#32
  let c0_i32_873 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c512_i32_872 : BitVec 32 := 512#32
  let v1388 : BitVec 32 := Scalar.subi v484 c512_i32_872
  let v1389 : BitVec 32 := Scalar.maxsi c0_i32_873 v1388
  let v1390 : BitVec 32 := Scalar.minsi c256_i32_874 v1389
  let v1805 : BitVec 32 := Scalar.subi v1390 v1387
  let c1_i32_1195 : BitVec 32 := 1#32
  let v1807 : BitVec 32 := Scalar.divsi v1805 c1_i32_1195
  let v1808 : BitVec 32 := Scalar.muli v1807 c1_i32_1195
  let v1809 : BitVec 32 := Scalar.addi v1387 v1808
  let v1806 : BitVec 32 := Scalar.addi v1387 v1805
  let c1_i32_1197 : BitVec 32 := 1#32
  ⟨v1809, v1806, c1_i32_1197⟩
def k3_off671 (i : grid3.Coords) (v474 : BitVec 32) (v480 : BitVec 32) (k3_t168 : Fin (k3_t168_loop i v474 v480).trips) : Fin 2 → Nat :=
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let c256_i32_874 : BitVec 32 := 256#32
  let c0_i32_873 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c512_i32_872 : BitVec 32 := 512#32
  let v1388 : BitVec 32 := Scalar.subi v484 c512_i32_872
  let v1389 : BitVec 32 := Scalar.maxsi c0_i32_873 v1388
  let v1390 : BitVec 32 := Scalar.minsi c256_i32_874 v1389
  let v1805 : BitVec 32 := Scalar.subi v1390 v1387
  let c1_i32_1195 : BitVec 32 := 1#32
  let v1807 : BitVec 32 := Scalar.divsi v1805 c1_i32_1195
  let v1808 : BitVec 32 := Scalar.muli v1807 c1_i32_1195
  let v1809 : BitVec 32 := Scalar.addi v1387 v1808
  let c1_i32_1197 : BitVec 32 := 1#32
  let arg13 : BitVec 32 := Scf.iv v1809 c1_i32_1197 k3_t168
  let v1828 : Index := Scalar.indexCast arg13
  let c64 : Index := 64#32
  ![v1828.toNat, 64]
def k3_off672 (i : grid3.Coords) (v474 : BitVec 32) (v480 : BitVec 32) (k3_t168 : Fin (k3_t168_loop i v474 v480).trips) : Fin 2 → Nat :=
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let c256_i32_874 : BitVec 32 := 256#32
  let c0_i32_873 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c512_i32_872 : BitVec 32 := 512#32
  let v1388 : BitVec 32 := Scalar.subi v484 c512_i32_872
  let v1389 : BitVec 32 := Scalar.maxsi c0_i32_873 v1388
  let v1390 : BitVec 32 := Scalar.minsi c256_i32_874 v1389
  let v1805 : BitVec 32 := Scalar.subi v1390 v1387
  let c1_i32_1195 : BitVec 32 := 1#32
  let v1807 : BitVec 32 := Scalar.divsi v1805 c1_i32_1195
  let v1808 : BitVec 32 := Scalar.muli v1807 c1_i32_1195
  let v1809 : BitVec 32 := Scalar.addi v1387 v1808
  let c1_i32_1197 : BitVec 32 := 1#32
  let arg13 : BitVec 32 := Scf.iv v1809 c1_i32_1197 k3_t168
  let v1832 : Index := Scalar.indexCast arg13
  let c80 : Index := 80#32
  ![v1832.toNat, 80]
def k3_off673 (i : grid3.Coords) (v474 : BitVec 32) (v480 : BitVec 32) (k3_t168 : Fin (k3_t168_loop i v474 v480).trips) : Fin 2 → Nat :=
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let c256_i32_874 : BitVec 32 := 256#32
  let c0_i32_873 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c512_i32_872 : BitVec 32 := 512#32
  let v1388 : BitVec 32 := Scalar.subi v484 c512_i32_872
  let v1389 : BitVec 32 := Scalar.maxsi c0_i32_873 v1388
  let v1390 : BitVec 32 := Scalar.minsi c256_i32_874 v1389
  let v1805 : BitVec 32 := Scalar.subi v1390 v1387
  let c1_i32_1195 : BitVec 32 := 1#32
  let v1807 : BitVec 32 := Scalar.divsi v1805 c1_i32_1195
  let v1808 : BitVec 32 := Scalar.muli v1807 c1_i32_1195
  let v1809 : BitVec 32 := Scalar.addi v1387 v1808
  let c1_i32_1197 : BitVec 32 := 1#32
  let arg13 : BitVec 32 := Scf.iv v1809 c1_i32_1197 k3_t168
  let v1836 : Index := Scalar.indexCast arg13
  let c96 : Index := 96#32
  ![v1836.toNat, 96]
def k3_off674 (i : grid3.Coords) (v474 : BitVec 32) (v480 : BitVec 32) (k3_t168 : Fin (k3_t168_loop i v474 v480).trips) : Fin 2 → Nat :=
  let c256_i32_871 : BitVec 32 := 256#32
  let c0_i32_870 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c512_i32_869 : BitVec 32 := 512#32
  let v1385 : BitVec 32 := Scalar.subi v478 c512_i32_869
  let v1386 : BitVec 32 := Scalar.maxsi c0_i32_870 v1385
  let v1387 : BitVec 32 := Scalar.minsi c256_i32_871 v1386
  let c256_i32_874 : BitVec 32 := 256#32
  let c0_i32_873 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c512_i32_872 : BitVec 32 := 512#32
  let v1388 : BitVec 32 := Scalar.subi v484 c512_i32_872
  let v1389 : BitVec 32 := Scalar.maxsi c0_i32_873 v1388
  let v1390 : BitVec 32 := Scalar.minsi c256_i32_874 v1389
  let v1805 : BitVec 32 := Scalar.subi v1390 v1387
  let c1_i32_1195 : BitVec 32 := 1#32
  let v1807 : BitVec 32 := Scalar.divsi v1805 c1_i32_1195
  let v1808 : BitVec 32 := Scalar.muli v1807 c1_i32_1195
  let v1809 : BitVec 32 := Scalar.addi v1387 v1808
  let c1_i32_1197 : BitVec 32 := 1#32
  let arg13 : BitVec 32 := Scf.iv v1809 c1_i32_1197 k3_t168
  let v1840 : Index := Scalar.indexCast arg13
  let c112 : Index := 112#32
  ![v1840.toNat, 112]
@[reducible] def k3_t169_loop (i : grid3.Coords) (v486 : BitVec 32) (v491 : BitVec 32) : Scf.Loop 32 :=
  let c256_i32_878 : BitVec 32 := 256#32
  let c0_i32_877 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let c256_i32_881 : BitVec 32 := 256#32
  let c0_i32_880 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c512_i32_879 : BitVec 32 := 512#32
  let v1397 : BitVec 32 := Scalar.subi v494 c512_i32_879
  let v1398 : BitVec 32 := Scalar.maxsi c0_i32_880 v1397
  let v1399 : BitVec 32 := Scalar.minsi c256_i32_881 v1398
  let v1805 : BitVec 32 := Scalar.subi v1399 v1396
  let c1_i32_1195 : BitVec 32 := 1#32
  let v1807 : BitVec 32 := Scalar.divsi v1805 c1_i32_1195
  let v1808 : BitVec 32 := Scalar.muli v1807 c1_i32_1195
  let v1809 : BitVec 32 := Scalar.addi v1396 v1808
  let c1_i32_1196 : BitVec 32 := 1#32
  ⟨v1396, v1809, c1_i32_1196⟩
def k3_cond85 (i : grid3.Coords) (v486 : BitVec 32) (v491 : BitVec 32) : BitVec 1 :=
  let c256_i32_881 : BitVec 32 := 256#32
  let c0_i32_880 : BitVec 32 := 0#32
  let c1024_i32_213 : BitVec 32 := 1024#32
  let c0_i32_212 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v492 : BitVec 32 := Scalar.subi v491 v3
  let v493 : BitVec 32 := Scalar.maxsi c0_i32_212 v492
  let v494 : BitVec 32 := Scalar.minsi c1024_i32_213 v493
  let c512_i32_879 : BitVec 32 := 512#32
  let v1397 : BitVec 32 := Scalar.subi v494 c512_i32_879
  let v1398 : BitVec 32 := Scalar.maxsi c0_i32_880 v1397
  let v1399 : BitVec 32 := Scalar.minsi c256_i32_881 v1398
  let c256_i32_878 : BitVec 32 := 256#32
  let c0_i32_877 : BitVec 32 := 0#32
  let c1024_i32_211 : BitVec 32 := 1024#32
  let c0_i32_210 : BitVec 32 := 0#32
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let v1400 : BitVec 1 := Scalar.cmpi .sgt v1399 v1396
  let v1401 : BitVec 32 := Scalar.extui v1400
  let c0_i32_882 : BitVec 32 := 0#32
  let v1402 : BitVec 1 := Scalar.cmpi .ne v1401 c0_i32_882
  v1402

def k3_off675 (i : grid3.Coords) (v486 : BitVec 32) (v491 : BitVec 32) (k3_t169 : Fin (k3_t169_loop i v486 v491).trips) : Fin 2 → Nat :=
  let c256_i32_878 : BitVec 32 := 256#32
  let c0_i32_877 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let c1_i32_1196 : BitVec 32 := 1#32
  let arg13 : BitVec 32 := Scf.iv v1396 c1_i32_1196 k3_t169
  let v1828 : Index := Scalar.indexCast arg13
  let c0_1206 : Index := 0#32
  ![v1828.toNat, 0]
def k3_off676 (i : grid3.Coords) (v486 : BitVec 32) (v491 : BitVec 32) (k3_t169 : Fin (k3_t169_loop i v486 v491).trips) : Fin 2 → Nat :=
  let c256_i32_878 : BitVec 32 := 256#32
  let c0_i32_877 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let c1_i32_1196 : BitVec 32 := 1#32
  let arg13 : BitVec 32 := Scf.iv v1396 c1_i32_1196 k3_t169
  let v1832 : Index := Scalar.indexCast arg13
  let c16_1207 : Index := 16#32
  ![v1832.toNat, 16]
def k3_off677 (i : grid3.Coords) (v486 : BitVec 32) (v491 : BitVec 32) (k3_t169 : Fin (k3_t169_loop i v486 v491).trips) : Fin 2 → Nat :=
  let c256_i32_878 : BitVec 32 := 256#32
  let c0_i32_877 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let c1_i32_1196 : BitVec 32 := 1#32
  let arg13 : BitVec 32 := Scf.iv v1396 c1_i32_1196 k3_t169
  let v1836 : Index := Scalar.indexCast arg13
  let c32_1208 : Index := 32#32
  ![v1836.toNat, 32]
def k3_off678 (i : grid3.Coords) (v486 : BitVec 32) (v491 : BitVec 32) (k3_t169 : Fin (k3_t169_loop i v486 v491).trips) : Fin 2 → Nat :=
  let c256_i32_878 : BitVec 32 := 256#32
  let c0_i32_877 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let c1_i32_1196 : BitVec 32 := 1#32
  let arg13 : BitVec 32 := Scf.iv v1396 c1_i32_1196 k3_t169
  let v1840 : Index := Scalar.indexCast arg13
  let c48_1209 : Index := 48#32
  ![v1840.toNat, 48]
@[reducible] def k3_t170_loop (i : grid3.Coords) (v486 : BitVec 32) (v491 : BitVec 32) : Scf.Loop 32 :=
  let c256_i32_878 : BitVec 32 := 256#32
  let c0_i32_877 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let c256_i32_881 : BitVec 32 := 256#32
  let c0_i32_880 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c512_i32_879 : BitVec 32 := 512#32
  let v1397 : BitVec 32 := Scalar.subi v494 c512_i32_879
  let v1398 : BitVec 32 := Scalar.maxsi c0_i32_880 v1397
  let v1399 : BitVec 32 := Scalar.minsi c256_i32_881 v1398
  let v1805 : BitVec 32 := Scalar.subi v1399 v1396
  let c1_i32_1195 : BitVec 32 := 1#32
  let v1807 : BitVec 32 := Scalar.divsi v1805 c1_i32_1195
  let v1808 : BitVec 32 := Scalar.muli v1807 c1_i32_1195
  let v1809 : BitVec 32 := Scalar.addi v1396 v1808
  let v1806 : BitVec 32 := Scalar.addi v1396 v1805
  let c1_i32_1197 : BitVec 32 := 1#32
  ⟨v1809, v1806, c1_i32_1197⟩
def k3_off679 (i : grid3.Coords) (v486 : BitVec 32) (v491 : BitVec 32) (k3_t170 : Fin (k3_t170_loop i v486 v491).trips) : Fin 2 → Nat :=
  let c256_i32_878 : BitVec 32 := 256#32
  let c0_i32_877 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let c256_i32_881 : BitVec 32 := 256#32
  let c0_i32_880 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c512_i32_879 : BitVec 32 := 512#32
  let v1397 : BitVec 32 := Scalar.subi v494 c512_i32_879
  let v1398 : BitVec 32 := Scalar.maxsi c0_i32_880 v1397
  let v1399 : BitVec 32 := Scalar.minsi c256_i32_881 v1398
  let v1805 : BitVec 32 := Scalar.subi v1399 v1396
  let c1_i32_1195 : BitVec 32 := 1#32
  let v1807 : BitVec 32 := Scalar.divsi v1805 c1_i32_1195
  let v1808 : BitVec 32 := Scalar.muli v1807 c1_i32_1195
  let v1809 : BitVec 32 := Scalar.addi v1396 v1808
  let c1_i32_1197 : BitVec 32 := 1#32
  let arg13 : BitVec 32 := Scf.iv v1809 c1_i32_1197 k3_t170
  let v1828 : Index := Scalar.indexCast arg13
  let c0_1206 : Index := 0#32
  ![v1828.toNat, 0]
def k3_off680 (i : grid3.Coords) (v486 : BitVec 32) (v491 : BitVec 32) (k3_t170 : Fin (k3_t170_loop i v486 v491).trips) : Fin 2 → Nat :=
  let c256_i32_878 : BitVec 32 := 256#32
  let c0_i32_877 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let c256_i32_881 : BitVec 32 := 256#32
  let c0_i32_880 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c512_i32_879 : BitVec 32 := 512#32
  let v1397 : BitVec 32 := Scalar.subi v494 c512_i32_879
  let v1398 : BitVec 32 := Scalar.maxsi c0_i32_880 v1397
  let v1399 : BitVec 32 := Scalar.minsi c256_i32_881 v1398
  let v1805 : BitVec 32 := Scalar.subi v1399 v1396
  let c1_i32_1195 : BitVec 32 := 1#32
  let v1807 : BitVec 32 := Scalar.divsi v1805 c1_i32_1195
  let v1808 : BitVec 32 := Scalar.muli v1807 c1_i32_1195
  let v1809 : BitVec 32 := Scalar.addi v1396 v1808
  let c1_i32_1197 : BitVec 32 := 1#32
  let arg13 : BitVec 32 := Scf.iv v1809 c1_i32_1197 k3_t170
  let v1832 : Index := Scalar.indexCast arg13
  let c16_1207 : Index := 16#32
  ![v1832.toNat, 16]
def k3_off681 (i : grid3.Coords) (v486 : BitVec 32) (v491 : BitVec 32) (k3_t170 : Fin (k3_t170_loop i v486 v491).trips) : Fin 2 → Nat :=
  let c256_i32_878 : BitVec 32 := 256#32
  let c0_i32_877 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let c256_i32_881 : BitVec 32 := 256#32
  let c0_i32_880 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c512_i32_879 : BitVec 32 := 512#32
  let v1397 : BitVec 32 := Scalar.subi v494 c512_i32_879
  let v1398 : BitVec 32 := Scalar.maxsi c0_i32_880 v1397
  let v1399 : BitVec 32 := Scalar.minsi c256_i32_881 v1398
  let v1805 : BitVec 32 := Scalar.subi v1399 v1396
  let c1_i32_1195 : BitVec 32 := 1#32
  let v1807 : BitVec 32 := Scalar.divsi v1805 c1_i32_1195
  let v1808 : BitVec 32 := Scalar.muli v1807 c1_i32_1195
  let v1809 : BitVec 32 := Scalar.addi v1396 v1808
  let c1_i32_1197 : BitVec 32 := 1#32
  let arg13 : BitVec 32 := Scf.iv v1809 c1_i32_1197 k3_t170
  let v1836 : Index := Scalar.indexCast arg13
  let c32_1208 : Index := 32#32
  ![v1836.toNat, 32]
def k3_off682 (i : grid3.Coords) (v486 : BitVec 32) (v491 : BitVec 32) (k3_t170 : Fin (k3_t170_loop i v486 v491).trips) : Fin 2 → Nat :=
  let c256_i32_878 : BitVec 32 := 256#32
  let c0_i32_877 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c512_i32_876 : BitVec 32 := 512#32
  let v1394 : BitVec 32 := Scalar.subi v489 c512_i32_876
  let v1395 : BitVec 32 := Scalar.maxsi c0_i32_877 v1394
  let v1396 : BitVec 32 := Scalar.minsi c256_i32_878 v1395
  let c256_i32_881 : BitVec 32 := 256#32
  let c0_i32_880 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c512_i32_879 : BitVec 32 := 512#32
  let v1397 : BitVec 32 := Scalar.subi v494 c512_i32_879
  let v1398 : BitVec 32 := Scalar.maxsi c0_i32_880 v1397
  let v1399 : BitVec 32 := Scalar.minsi c256_i32_881 v1398
  let v1805 : BitVec 32 := Scalar.subi v1399 v1396
  let c1_i32_1195 : BitVec 32 := 1#32
  let v1807 : BitVec 32 := Scalar.divsi v1805 c1_i32_1195
  let v1808 : BitVec 32 := Scalar.muli v1807 c1_i32_1195
  let v1809 : BitVec 32 := Scalar.addi v1396 v1808
  let c1_i32_1197 : BitVec 32 := 1#32
  let arg13 : BitVec 32 := Scf.iv v1809 c1_i32_1197 k3_t170
  let v1840 : Index := Scalar.indexCast arg13
  let c48_1209 : Index := 48#32
  ![v1840.toNat, 48]
@[reducible] def k3_t171_loop (i : grid3.Coords) (v496 : BitVec 32) (v502 : BitVec 32) : Scf.Loop 32 :=
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let c256_i32_888 : BitVec 32 := 256#32
  let c0_i32_887 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c512_i32_886 : BitVec 32 := 512#32
  let v1406 : BitVec 32 := Scalar.subi v506 c512_i32_886
  let v1407 : BitVec 32 := Scalar.maxsi c0_i32_887 v1406
  let v1408 : BitVec 32 := Scalar.minsi c256_i32_888 v1407
  let v1805 : BitVec 32 := Scalar.subi v1408 v1405
  let c1_i32_1195 : BitVec 32 := 1#32
  let v1807 : BitVec 32 := Scalar.divsi v1805 c1_i32_1195
  let v1808 : BitVec 32 := Scalar.muli v1807 c1_i32_1195
  let v1809 : BitVec 32 := Scalar.addi v1405 v1808
  let c1_i32_1196 : BitVec 32 := 1#32
  ⟨v1405, v1809, c1_i32_1196⟩
def k3_cond86 (i : grid3.Coords) (v496 : BitVec 32) (v502 : BitVec 32) : BitVec 1 :=
  let c256_i32_888 : BitVec 32 := 256#32
  let c0_i32_887 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v504 : BitVec 32 := Scalar.subi v503 v3
  let v505 : BitVec 32 := Scalar.maxsi c0_i32_218 v504
  let v506 : BitVec 32 := Scalar.minsi c1024_i32_219 v505
  let c512_i32_886 : BitVec 32 := 512#32
  let v1406 : BitVec 32 := Scalar.subi v506 c512_i32_886
  let v1407 : BitVec 32 := Scalar.maxsi c0_i32_887 v1406
  let v1408 : BitVec 32 := Scalar.minsi c256_i32_888 v1407
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let v1409 : BitVec 1 := Scalar.cmpi .sgt v1408 v1405
  let v1410 : BitVec 32 := Scalar.extui v1409
  let c0_i32_889 : BitVec 32 := 0#32
  let v1411 : BitVec 1 := Scalar.cmpi .ne v1410 c0_i32_889
  v1411

def k3_off683 (i : grid3.Coords) (v496 : BitVec 32) (v502 : BitVec 32) (k3_t171 : Fin (k3_t171_loop i v496 v502).trips) : Fin 2 → Nat :=
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let c1_i32_1196 : BitVec 32 := 1#32
  let arg13 : BitVec 32 := Scf.iv v1405 c1_i32_1196 k3_t171
  let v1828 : Index := Scalar.indexCast arg13
  let c64 : Index := 64#32
  ![v1828.toNat, 64]
def k3_off684 (i : grid3.Coords) (v496 : BitVec 32) (v502 : BitVec 32) (k3_t171 : Fin (k3_t171_loop i v496 v502).trips) : Fin 2 → Nat :=
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let c1_i32_1196 : BitVec 32 := 1#32
  let arg13 : BitVec 32 := Scf.iv v1405 c1_i32_1196 k3_t171
  let v1832 : Index := Scalar.indexCast arg13
  let c80 : Index := 80#32
  ![v1832.toNat, 80]
def k3_off685 (i : grid3.Coords) (v496 : BitVec 32) (v502 : BitVec 32) (k3_t171 : Fin (k3_t171_loop i v496 v502).trips) : Fin 2 → Nat :=
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let c1_i32_1196 : BitVec 32 := 1#32
  let arg13 : BitVec 32 := Scf.iv v1405 c1_i32_1196 k3_t171
  let v1836 : Index := Scalar.indexCast arg13
  let c96 : Index := 96#32
  ![v1836.toNat, 96]
def k3_off686 (i : grid3.Coords) (v496 : BitVec 32) (v502 : BitVec 32) (k3_t171 : Fin (k3_t171_loop i v496 v502).trips) : Fin 2 → Nat :=
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let c1_i32_1196 : BitVec 32 := 1#32
  let arg13 : BitVec 32 := Scf.iv v1405 c1_i32_1196 k3_t171
  let v1840 : Index := Scalar.indexCast arg13
  let c112 : Index := 112#32
  ![v1840.toNat, 112]
@[reducible] def k3_t172_loop (i : grid3.Coords) (v496 : BitVec 32) (v502 : BitVec 32) : Scf.Loop 32 :=
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let c256_i32_888 : BitVec 32 := 256#32
  let c0_i32_887 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c512_i32_886 : BitVec 32 := 512#32
  let v1406 : BitVec 32 := Scalar.subi v506 c512_i32_886
  let v1407 : BitVec 32 := Scalar.maxsi c0_i32_887 v1406
  let v1408 : BitVec 32 := Scalar.minsi c256_i32_888 v1407
  let v1805 : BitVec 32 := Scalar.subi v1408 v1405
  let c1_i32_1195 : BitVec 32 := 1#32
  let v1807 : BitVec 32 := Scalar.divsi v1805 c1_i32_1195
  let v1808 : BitVec 32 := Scalar.muli v1807 c1_i32_1195
  let v1809 : BitVec 32 := Scalar.addi v1405 v1808
  let v1806 : BitVec 32 := Scalar.addi v1405 v1805
  let c1_i32_1197 : BitVec 32 := 1#32
  ⟨v1809, v1806, c1_i32_1197⟩
def k3_off687 (i : grid3.Coords) (v496 : BitVec 32) (v502 : BitVec 32) (k3_t172 : Fin (k3_t172_loop i v496 v502).trips) : Fin 2 → Nat :=
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let c256_i32_888 : BitVec 32 := 256#32
  let c0_i32_887 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c512_i32_886 : BitVec 32 := 512#32
  let v1406 : BitVec 32 := Scalar.subi v506 c512_i32_886
  let v1407 : BitVec 32 := Scalar.maxsi c0_i32_887 v1406
  let v1408 : BitVec 32 := Scalar.minsi c256_i32_888 v1407
  let v1805 : BitVec 32 := Scalar.subi v1408 v1405
  let c1_i32_1195 : BitVec 32 := 1#32
  let v1807 : BitVec 32 := Scalar.divsi v1805 c1_i32_1195
  let v1808 : BitVec 32 := Scalar.muli v1807 c1_i32_1195
  let v1809 : BitVec 32 := Scalar.addi v1405 v1808
  let c1_i32_1197 : BitVec 32 := 1#32
  let arg13 : BitVec 32 := Scf.iv v1809 c1_i32_1197 k3_t172
  let v1828 : Index := Scalar.indexCast arg13
  let c64 : Index := 64#32
  ![v1828.toNat, 64]
def k3_off688 (i : grid3.Coords) (v496 : BitVec 32) (v502 : BitVec 32) (k3_t172 : Fin (k3_t172_loop i v496 v502).trips) : Fin 2 → Nat :=
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let c256_i32_888 : BitVec 32 := 256#32
  let c0_i32_887 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c512_i32_886 : BitVec 32 := 512#32
  let v1406 : BitVec 32 := Scalar.subi v506 c512_i32_886
  let v1407 : BitVec 32 := Scalar.maxsi c0_i32_887 v1406
  let v1408 : BitVec 32 := Scalar.minsi c256_i32_888 v1407
  let v1805 : BitVec 32 := Scalar.subi v1408 v1405
  let c1_i32_1195 : BitVec 32 := 1#32
  let v1807 : BitVec 32 := Scalar.divsi v1805 c1_i32_1195
  let v1808 : BitVec 32 := Scalar.muli v1807 c1_i32_1195
  let v1809 : BitVec 32 := Scalar.addi v1405 v1808
  let c1_i32_1197 : BitVec 32 := 1#32
  let arg13 : BitVec 32 := Scf.iv v1809 c1_i32_1197 k3_t172
  let v1832 : Index := Scalar.indexCast arg13
  let c80 : Index := 80#32
  ![v1832.toNat, 80]
def k3_off689 (i : grid3.Coords) (v496 : BitVec 32) (v502 : BitVec 32) (k3_t172 : Fin (k3_t172_loop i v496 v502).trips) : Fin 2 → Nat :=
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let c256_i32_888 : BitVec 32 := 256#32
  let c0_i32_887 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c512_i32_886 : BitVec 32 := 512#32
  let v1406 : BitVec 32 := Scalar.subi v506 c512_i32_886
  let v1407 : BitVec 32 := Scalar.maxsi c0_i32_887 v1406
  let v1408 : BitVec 32 := Scalar.minsi c256_i32_888 v1407
  let v1805 : BitVec 32 := Scalar.subi v1408 v1405
  let c1_i32_1195 : BitVec 32 := 1#32
  let v1807 : BitVec 32 := Scalar.divsi v1805 c1_i32_1195
  let v1808 : BitVec 32 := Scalar.muli v1807 c1_i32_1195
  let v1809 : BitVec 32 := Scalar.addi v1405 v1808
  let c1_i32_1197 : BitVec 32 := 1#32
  let arg13 : BitVec 32 := Scf.iv v1809 c1_i32_1197 k3_t172
  let v1836 : Index := Scalar.indexCast arg13
  let c96 : Index := 96#32
  ![v1836.toNat, 96]
def k3_off690 (i : grid3.Coords) (v496 : BitVec 32) (v502 : BitVec 32) (k3_t172 : Fin (k3_t172_loop i v496 v502).trips) : Fin 2 → Nat :=
  let c256_i32_885 : BitVec 32 := 256#32
  let c0_i32_884 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c512_i32_883 : BitVec 32 := 512#32
  let v1403 : BitVec 32 := Scalar.subi v500 c512_i32_883
  let v1404 : BitVec 32 := Scalar.maxsi c0_i32_884 v1403
  let v1405 : BitVec 32 := Scalar.minsi c256_i32_885 v1404
  let c256_i32_888 : BitVec 32 := 256#32
  let c0_i32_887 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c512_i32_886 : BitVec 32 := 512#32
  let v1406 : BitVec 32 := Scalar.subi v506 c512_i32_886
  let v1407 : BitVec 32 := Scalar.maxsi c0_i32_887 v1406
  let v1408 : BitVec 32 := Scalar.minsi c256_i32_888 v1407
  let v1805 : BitVec 32 := Scalar.subi v1408 v1405
  let c1_i32_1195 : BitVec 32 := 1#32
  let v1807 : BitVec 32 := Scalar.divsi v1805 c1_i32_1195
  let v1808 : BitVec 32 := Scalar.muli v1807 c1_i32_1195
  let v1809 : BitVec 32 := Scalar.addi v1405 v1808
  let c1_i32_1197 : BitVec 32 := 1#32
  let arg13 : BitVec 32 := Scf.iv v1809 c1_i32_1197 k3_t172
  let v1840 : Index := Scalar.indexCast arg13
  let c112 : Index := 112#32
  ![v1840.toNat, 112]
@[reducible] def k3_t173_loop (i : grid3.Coords) (v508 : BitVec 32) (v513 : BitVec 32) : Scf.Loop 32 :=
  let c256_i32_892 : BitVec 32 := 256#32
  let c0_i32_891 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let c256_i32_895 : BitVec 32 := 256#32
  let c0_i32_894 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c512_i32_893 : BitVec 32 := 512#32
  let v1415 : BitVec 32 := Scalar.subi v516 c512_i32_893
  let v1416 : BitVec 32 := Scalar.maxsi c0_i32_894 v1415
  let v1417 : BitVec 32 := Scalar.minsi c256_i32_895 v1416
  let v1805 : BitVec 32 := Scalar.subi v1417 v1414
  let c1_i32_1195 : BitVec 32 := 1#32
  let v1807 : BitVec 32 := Scalar.divsi v1805 c1_i32_1195
  let v1808 : BitVec 32 := Scalar.muli v1807 c1_i32_1195
  let v1809 : BitVec 32 := Scalar.addi v1414 v1808
  let c1_i32_1196 : BitVec 32 := 1#32
  ⟨v1414, v1809, c1_i32_1196⟩
def k3_cond87 (i : grid3.Coords) (v508 : BitVec 32) (v513 : BitVec 32) : BitVec 1 :=
  let c256_i32_895 : BitVec 32 := 256#32
  let c0_i32_894 : BitVec 32 := 0#32
  let c1024_i32_223 : BitVec 32 := 1024#32
  let c0_i32_222 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v514 : BitVec 32 := Scalar.subi v513 v3
  let v515 : BitVec 32 := Scalar.maxsi c0_i32_222 v514
  let v516 : BitVec 32 := Scalar.minsi c1024_i32_223 v515
  let c512_i32_893 : BitVec 32 := 512#32
  let v1415 : BitVec 32 := Scalar.subi v516 c512_i32_893
  let v1416 : BitVec 32 := Scalar.maxsi c0_i32_894 v1415
  let v1417 : BitVec 32 := Scalar.minsi c256_i32_895 v1416
  let c256_i32_892 : BitVec 32 := 256#32
  let c0_i32_891 : BitVec 32 := 0#32
  let c1024_i32_221 : BitVec 32 := 1024#32
  let c0_i32_220 : BitVec 32 := 0#32
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let v1418 : BitVec 1 := Scalar.cmpi .sgt v1417 v1414
  let v1419 : BitVec 32 := Scalar.extui v1418
  let c0_i32_896 : BitVec 32 := 0#32
  let v1420 : BitVec 1 := Scalar.cmpi .ne v1419 c0_i32_896
  v1420

def k3_off691 (i : grid3.Coords) (v508 : BitVec 32) (v513 : BitVec 32) (k3_t173 : Fin (k3_t173_loop i v508 v513).trips) : Fin 2 → Nat :=
  let c256_i32_892 : BitVec 32 := 256#32
  let c0_i32_891 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let c1_i32_1196 : BitVec 32 := 1#32
  let arg13 : BitVec 32 := Scf.iv v1414 c1_i32_1196 k3_t173
  let v1828 : Index := Scalar.indexCast arg13
  let c0_1206 : Index := 0#32
  ![v1828.toNat, 0]
def k3_off692 (i : grid3.Coords) (v508 : BitVec 32) (v513 : BitVec 32) (k3_t173 : Fin (k3_t173_loop i v508 v513).trips) : Fin 2 → Nat :=
  let c256_i32_892 : BitVec 32 := 256#32
  let c0_i32_891 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let c1_i32_1196 : BitVec 32 := 1#32
  let arg13 : BitVec 32 := Scf.iv v1414 c1_i32_1196 k3_t173
  let v1832 : Index := Scalar.indexCast arg13
  let c16_1207 : Index := 16#32
  ![v1832.toNat, 16]
def k3_off693 (i : grid3.Coords) (v508 : BitVec 32) (v513 : BitVec 32) (k3_t173 : Fin (k3_t173_loop i v508 v513).trips) : Fin 2 → Nat :=
  let c256_i32_892 : BitVec 32 := 256#32
  let c0_i32_891 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let c1_i32_1196 : BitVec 32 := 1#32
  let arg13 : BitVec 32 := Scf.iv v1414 c1_i32_1196 k3_t173
  let v1836 : Index := Scalar.indexCast arg13
  let c32_1208 : Index := 32#32
  ![v1836.toNat, 32]
def k3_off694 (i : grid3.Coords) (v508 : BitVec 32) (v513 : BitVec 32) (k3_t173 : Fin (k3_t173_loop i v508 v513).trips) : Fin 2 → Nat :=
  let c256_i32_892 : BitVec 32 := 256#32
  let c0_i32_891 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let c1_i32_1196 : BitVec 32 := 1#32
  let arg13 : BitVec 32 := Scf.iv v1414 c1_i32_1196 k3_t173
  let v1840 : Index := Scalar.indexCast arg13
  let c48_1209 : Index := 48#32
  ![v1840.toNat, 48]
@[reducible] def k3_t174_loop (i : grid3.Coords) (v508 : BitVec 32) (v513 : BitVec 32) : Scf.Loop 32 :=
  let c256_i32_892 : BitVec 32 := 256#32
  let c0_i32_891 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let c256_i32_895 : BitVec 32 := 256#32
  let c0_i32_894 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c512_i32_893 : BitVec 32 := 512#32
  let v1415 : BitVec 32 := Scalar.subi v516 c512_i32_893
  let v1416 : BitVec 32 := Scalar.maxsi c0_i32_894 v1415
  let v1417 : BitVec 32 := Scalar.minsi c256_i32_895 v1416
  let v1805 : BitVec 32 := Scalar.subi v1417 v1414
  let c1_i32_1195 : BitVec 32 := 1#32
  let v1807 : BitVec 32 := Scalar.divsi v1805 c1_i32_1195
  let v1808 : BitVec 32 := Scalar.muli v1807 c1_i32_1195
  let v1809 : BitVec 32 := Scalar.addi v1414 v1808
  let v1806 : BitVec 32 := Scalar.addi v1414 v1805
  let c1_i32_1197 : BitVec 32 := 1#32
  ⟨v1809, v1806, c1_i32_1197⟩
def k3_off695 (i : grid3.Coords) (v508 : BitVec 32) (v513 : BitVec 32) (k3_t174 : Fin (k3_t174_loop i v508 v513).trips) : Fin 2 → Nat :=
  let c256_i32_892 : BitVec 32 := 256#32
  let c0_i32_891 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let c256_i32_895 : BitVec 32 := 256#32
  let c0_i32_894 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c512_i32_893 : BitVec 32 := 512#32
  let v1415 : BitVec 32 := Scalar.subi v516 c512_i32_893
  let v1416 : BitVec 32 := Scalar.maxsi c0_i32_894 v1415
  let v1417 : BitVec 32 := Scalar.minsi c256_i32_895 v1416
  let v1805 : BitVec 32 := Scalar.subi v1417 v1414
  let c1_i32_1195 : BitVec 32 := 1#32
  let v1807 : BitVec 32 := Scalar.divsi v1805 c1_i32_1195
  let v1808 : BitVec 32 := Scalar.muli v1807 c1_i32_1195
  let v1809 : BitVec 32 := Scalar.addi v1414 v1808
  let c1_i32_1197 : BitVec 32 := 1#32
  let arg13 : BitVec 32 := Scf.iv v1809 c1_i32_1197 k3_t174
  let v1828 : Index := Scalar.indexCast arg13
  let c0_1206 : Index := 0#32
  ![v1828.toNat, 0]
def k3_off696 (i : grid3.Coords) (v508 : BitVec 32) (v513 : BitVec 32) (k3_t174 : Fin (k3_t174_loop i v508 v513).trips) : Fin 2 → Nat :=
  let c256_i32_892 : BitVec 32 := 256#32
  let c0_i32_891 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let c256_i32_895 : BitVec 32 := 256#32
  let c0_i32_894 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c512_i32_893 : BitVec 32 := 512#32
  let v1415 : BitVec 32 := Scalar.subi v516 c512_i32_893
  let v1416 : BitVec 32 := Scalar.maxsi c0_i32_894 v1415
  let v1417 : BitVec 32 := Scalar.minsi c256_i32_895 v1416
  let v1805 : BitVec 32 := Scalar.subi v1417 v1414
  let c1_i32_1195 : BitVec 32 := 1#32
  let v1807 : BitVec 32 := Scalar.divsi v1805 c1_i32_1195
  let v1808 : BitVec 32 := Scalar.muli v1807 c1_i32_1195
  let v1809 : BitVec 32 := Scalar.addi v1414 v1808
  let c1_i32_1197 : BitVec 32 := 1#32
  let arg13 : BitVec 32 := Scf.iv v1809 c1_i32_1197 k3_t174
  let v1832 : Index := Scalar.indexCast arg13
  let c16_1207 : Index := 16#32
  ![v1832.toNat, 16]
def k3_off697 (i : grid3.Coords) (v508 : BitVec 32) (v513 : BitVec 32) (k3_t174 : Fin (k3_t174_loop i v508 v513).trips) : Fin 2 → Nat :=
  let c256_i32_892 : BitVec 32 := 256#32
  let c0_i32_891 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let c256_i32_895 : BitVec 32 := 256#32
  let c0_i32_894 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c512_i32_893 : BitVec 32 := 512#32
  let v1415 : BitVec 32 := Scalar.subi v516 c512_i32_893
  let v1416 : BitVec 32 := Scalar.maxsi c0_i32_894 v1415
  let v1417 : BitVec 32 := Scalar.minsi c256_i32_895 v1416
  let v1805 : BitVec 32 := Scalar.subi v1417 v1414
  let c1_i32_1195 : BitVec 32 := 1#32
  let v1807 : BitVec 32 := Scalar.divsi v1805 c1_i32_1195
  let v1808 : BitVec 32 := Scalar.muli v1807 c1_i32_1195
  let v1809 : BitVec 32 := Scalar.addi v1414 v1808
  let c1_i32_1197 : BitVec 32 := 1#32
  let arg13 : BitVec 32 := Scf.iv v1809 c1_i32_1197 k3_t174
  let v1836 : Index := Scalar.indexCast arg13
  let c32_1208 : Index := 32#32
  ![v1836.toNat, 32]
def k3_off698 (i : grid3.Coords) (v508 : BitVec 32) (v513 : BitVec 32) (k3_t174 : Fin (k3_t174_loop i v508 v513).trips) : Fin 2 → Nat :=
  let c256_i32_892 : BitVec 32 := 256#32
  let c0_i32_891 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c512_i32_890 : BitVec 32 := 512#32
  let v1412 : BitVec 32 := Scalar.subi v511 c512_i32_890
  let v1413 : BitVec 32 := Scalar.maxsi c0_i32_891 v1412
  let v1414 : BitVec 32 := Scalar.minsi c256_i32_892 v1413
  let c256_i32_895 : BitVec 32 := 256#32
  let c0_i32_894 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c512_i32_893 : BitVec 32 := 512#32
  let v1415 : BitVec 32 := Scalar.subi v516 c512_i32_893
  let v1416 : BitVec 32 := Scalar.maxsi c0_i32_894 v1415
  let v1417 : BitVec 32 := Scalar.minsi c256_i32_895 v1416
  let v1805 : BitVec 32 := Scalar.subi v1417 v1414
  let c1_i32_1195 : BitVec 32 := 1#32
  let v1807 : BitVec 32 := Scalar.divsi v1805 c1_i32_1195
  let v1808 : BitVec 32 := Scalar.muli v1807 c1_i32_1195
  let v1809 : BitVec 32 := Scalar.addi v1414 v1808
  let c1_i32_1197 : BitVec 32 := 1#32
  let arg13 : BitVec 32 := Scf.iv v1809 c1_i32_1197 k3_t174
  let v1840 : Index := Scalar.indexCast arg13
  let c48_1209 : Index := 48#32
  ![v1840.toNat, 48]
@[reducible] def k3_t175_loop (i : grid3.Coords) (v518 : BitVec 32) (v524 : BitVec 32) : Scf.Loop 32 :=
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let c256_i32_902 : BitVec 32 := 256#32
  let c0_i32_901 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c512_i32_900 : BitVec 32 := 512#32
  let v1424 : BitVec 32 := Scalar.subi v528 c512_i32_900
  let v1425 : BitVec 32 := Scalar.maxsi c0_i32_901 v1424
  let v1426 : BitVec 32 := Scalar.minsi c256_i32_902 v1425
  let v1805 : BitVec 32 := Scalar.subi v1426 v1423
  let c1_i32_1195 : BitVec 32 := 1#32
  let v1807 : BitVec 32 := Scalar.divsi v1805 c1_i32_1195
  let v1808 : BitVec 32 := Scalar.muli v1807 c1_i32_1195
  let v1809 : BitVec 32 := Scalar.addi v1423 v1808
  let c1_i32_1196 : BitVec 32 := 1#32
  ⟨v1423, v1809, c1_i32_1196⟩
def k3_cond88 (i : grid3.Coords) (v518 : BitVec 32) (v524 : BitVec 32) : BitVec 1 :=
  let c256_i32_902 : BitVec 32 := 256#32
  let c0_i32_901 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v526 : BitVec 32 := Scalar.subi v525 v3
  let v527 : BitVec 32 := Scalar.maxsi c0_i32_228 v526
  let v528 : BitVec 32 := Scalar.minsi c1024_i32_229 v527
  let c512_i32_900 : BitVec 32 := 512#32
  let v1424 : BitVec 32 := Scalar.subi v528 c512_i32_900
  let v1425 : BitVec 32 := Scalar.maxsi c0_i32_901 v1424
  let v1426 : BitVec 32 := Scalar.minsi c256_i32_902 v1425
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let v1427 : BitVec 1 := Scalar.cmpi .sgt v1426 v1423
  let v1428 : BitVec 32 := Scalar.extui v1427
  let c0_i32_903 : BitVec 32 := 0#32
  let v1429 : BitVec 1 := Scalar.cmpi .ne v1428 c0_i32_903
  v1429

def k3_off699 (i : grid3.Coords) (v518 : BitVec 32) (v524 : BitVec 32) (k3_t175 : Fin (k3_t175_loop i v518 v524).trips) : Fin 2 → Nat :=
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let c1_i32_1196 : BitVec 32 := 1#32
  let arg13 : BitVec 32 := Scf.iv v1423 c1_i32_1196 k3_t175
  let v1828 : Index := Scalar.indexCast arg13
  let c64 : Index := 64#32
  ![v1828.toNat, 64]
def k3_off700 (i : grid3.Coords) (v518 : BitVec 32) (v524 : BitVec 32) (k3_t175 : Fin (k3_t175_loop i v518 v524).trips) : Fin 2 → Nat :=
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let c1_i32_1196 : BitVec 32 := 1#32
  let arg13 : BitVec 32 := Scf.iv v1423 c1_i32_1196 k3_t175
  let v1832 : Index := Scalar.indexCast arg13
  let c80 : Index := 80#32
  ![v1832.toNat, 80]
def k3_off701 (i : grid3.Coords) (v518 : BitVec 32) (v524 : BitVec 32) (k3_t175 : Fin (k3_t175_loop i v518 v524).trips) : Fin 2 → Nat :=
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let c1_i32_1196 : BitVec 32 := 1#32
  let arg13 : BitVec 32 := Scf.iv v1423 c1_i32_1196 k3_t175
  let v1836 : Index := Scalar.indexCast arg13
  let c96 : Index := 96#32
  ![v1836.toNat, 96]
def k3_off702 (i : grid3.Coords) (v518 : BitVec 32) (v524 : BitVec 32) (k3_t175 : Fin (k3_t175_loop i v518 v524).trips) : Fin 2 → Nat :=
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let c1_i32_1196 : BitVec 32 := 1#32
  let arg13 : BitVec 32 := Scf.iv v1423 c1_i32_1196 k3_t175
  let v1840 : Index := Scalar.indexCast arg13
  let c112 : Index := 112#32
  ![v1840.toNat, 112]
@[reducible] def k3_t176_loop (i : grid3.Coords) (v518 : BitVec 32) (v524 : BitVec 32) : Scf.Loop 32 :=
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let c256_i32_902 : BitVec 32 := 256#32
  let c0_i32_901 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c512_i32_900 : BitVec 32 := 512#32
  let v1424 : BitVec 32 := Scalar.subi v528 c512_i32_900
  let v1425 : BitVec 32 := Scalar.maxsi c0_i32_901 v1424
  let v1426 : BitVec 32 := Scalar.minsi c256_i32_902 v1425
  let v1805 : BitVec 32 := Scalar.subi v1426 v1423
  let c1_i32_1195 : BitVec 32 := 1#32
  let v1807 : BitVec 32 := Scalar.divsi v1805 c1_i32_1195
  let v1808 : BitVec 32 := Scalar.muli v1807 c1_i32_1195
  let v1809 : BitVec 32 := Scalar.addi v1423 v1808
  let v1806 : BitVec 32 := Scalar.addi v1423 v1805
  let c1_i32_1197 : BitVec 32 := 1#32
  ⟨v1809, v1806, c1_i32_1197⟩
def k3_off703 (i : grid3.Coords) (v518 : BitVec 32) (v524 : BitVec 32) (k3_t176 : Fin (k3_t176_loop i v518 v524).trips) : Fin 2 → Nat :=
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let c256_i32_902 : BitVec 32 := 256#32
  let c0_i32_901 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c512_i32_900 : BitVec 32 := 512#32
  let v1424 : BitVec 32 := Scalar.subi v528 c512_i32_900
  let v1425 : BitVec 32 := Scalar.maxsi c0_i32_901 v1424
  let v1426 : BitVec 32 := Scalar.minsi c256_i32_902 v1425
  let v1805 : BitVec 32 := Scalar.subi v1426 v1423
  let c1_i32_1195 : BitVec 32 := 1#32
  let v1807 : BitVec 32 := Scalar.divsi v1805 c1_i32_1195
  let v1808 : BitVec 32 := Scalar.muli v1807 c1_i32_1195
  let v1809 : BitVec 32 := Scalar.addi v1423 v1808
  let c1_i32_1197 : BitVec 32 := 1#32
  let arg13 : BitVec 32 := Scf.iv v1809 c1_i32_1197 k3_t176
  let v1828 : Index := Scalar.indexCast arg13
  let c64 : Index := 64#32
  ![v1828.toNat, 64]
def k3_off704 (i : grid3.Coords) (v518 : BitVec 32) (v524 : BitVec 32) (k3_t176 : Fin (k3_t176_loop i v518 v524).trips) : Fin 2 → Nat :=
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let c256_i32_902 : BitVec 32 := 256#32
  let c0_i32_901 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c512_i32_900 : BitVec 32 := 512#32
  let v1424 : BitVec 32 := Scalar.subi v528 c512_i32_900
  let v1425 : BitVec 32 := Scalar.maxsi c0_i32_901 v1424
  let v1426 : BitVec 32 := Scalar.minsi c256_i32_902 v1425
  let v1805 : BitVec 32 := Scalar.subi v1426 v1423
  let c1_i32_1195 : BitVec 32 := 1#32
  let v1807 : BitVec 32 := Scalar.divsi v1805 c1_i32_1195
  let v1808 : BitVec 32 := Scalar.muli v1807 c1_i32_1195
  let v1809 : BitVec 32 := Scalar.addi v1423 v1808
  let c1_i32_1197 : BitVec 32 := 1#32
  let arg13 : BitVec 32 := Scf.iv v1809 c1_i32_1197 k3_t176
  let v1832 : Index := Scalar.indexCast arg13
  let c80 : Index := 80#32
  ![v1832.toNat, 80]
def k3_off705 (i : grid3.Coords) (v518 : BitVec 32) (v524 : BitVec 32) (k3_t176 : Fin (k3_t176_loop i v518 v524).trips) : Fin 2 → Nat :=
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let c256_i32_902 : BitVec 32 := 256#32
  let c0_i32_901 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c512_i32_900 : BitVec 32 := 512#32
  let v1424 : BitVec 32 := Scalar.subi v528 c512_i32_900
  let v1425 : BitVec 32 := Scalar.maxsi c0_i32_901 v1424
  let v1426 : BitVec 32 := Scalar.minsi c256_i32_902 v1425
  let v1805 : BitVec 32 := Scalar.subi v1426 v1423
  let c1_i32_1195 : BitVec 32 := 1#32
  let v1807 : BitVec 32 := Scalar.divsi v1805 c1_i32_1195
  let v1808 : BitVec 32 := Scalar.muli v1807 c1_i32_1195
  let v1809 : BitVec 32 := Scalar.addi v1423 v1808
  let c1_i32_1197 : BitVec 32 := 1#32
  let arg13 : BitVec 32 := Scf.iv v1809 c1_i32_1197 k3_t176
  let v1836 : Index := Scalar.indexCast arg13
  let c96 : Index := 96#32
  ![v1836.toNat, 96]
def k3_off706 (i : grid3.Coords) (v518 : BitVec 32) (v524 : BitVec 32) (k3_t176 : Fin (k3_t176_loop i v518 v524).trips) : Fin 2 → Nat :=
  let c256_i32_899 : BitVec 32 := 256#32
  let c0_i32_898 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c512_i32_897 : BitVec 32 := 512#32
  let v1421 : BitVec 32 := Scalar.subi v522 c512_i32_897
  let v1422 : BitVec 32 := Scalar.maxsi c0_i32_898 v1421
  let v1423 : BitVec 32 := Scalar.minsi c256_i32_899 v1422
  let c256_i32_902 : BitVec 32 := 256#32
  let c0_i32_901 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c512_i32_900 : BitVec 32 := 512#32
  let v1424 : BitVec 32 := Scalar.subi v528 c512_i32_900
  let v1425 : BitVec 32 := Scalar.maxsi c0_i32_901 v1424
  let v1426 : BitVec 32 := Scalar.minsi c256_i32_902 v1425
  let v1805 : BitVec 32 := Scalar.subi v1426 v1423
  let c1_i32_1195 : BitVec 32 := 1#32
  let v1807 : BitVec 32 := Scalar.divsi v1805 c1_i32_1195
  let v1808 : BitVec 32 := Scalar.muli v1807 c1_i32_1195
  let v1809 : BitVec 32 := Scalar.addi v1423 v1808
  let c1_i32_1197 : BitVec 32 := 1#32
  let arg13 : BitVec 32 := Scf.iv v1809 c1_i32_1197 k3_t176
  let v1840 : Index := Scalar.indexCast arg13
  let c112 : Index := 112#32
  ![v1840.toNat, 112]
@[reducible] def k3_t177_loop (i : grid3.Coords) (v530 : BitVec 32) (v535 : BitVec 32) : Scf.Loop 32 :=
  let c256_i32_906 : BitVec 32 := 256#32
  let c0_i32_905 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let c256_i32_909 : BitVec 32 := 256#32
  let c0_i32_908 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c512_i32_907 : BitVec 32 := 512#32
  let v1433 : BitVec 32 := Scalar.subi v538 c512_i32_907
  let v1434 : BitVec 32 := Scalar.maxsi c0_i32_908 v1433
  let v1435 : BitVec 32 := Scalar.minsi c256_i32_909 v1434
  let v1805 : BitVec 32 := Scalar.subi v1435 v1432
  let c1_i32_1195 : BitVec 32 := 1#32
  let v1807 : BitVec 32 := Scalar.divsi v1805 c1_i32_1195
  let v1808 : BitVec 32 := Scalar.muli v1807 c1_i32_1195
  let v1809 : BitVec 32 := Scalar.addi v1432 v1808
  let c1_i32_1196 : BitVec 32 := 1#32
  ⟨v1432, v1809, c1_i32_1196⟩
def k3_cond89 (i : grid3.Coords) (v530 : BitVec 32) (v535 : BitVec 32) : BitVec 1 :=
  let c256_i32_909 : BitVec 32 := 256#32
  let c0_i32_908 : BitVec 32 := 0#32
  let c1024_i32_233 : BitVec 32 := 1024#32
  let c0_i32_232 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v536 : BitVec 32 := Scalar.subi v535 v3
  let v537 : BitVec 32 := Scalar.maxsi c0_i32_232 v536
  let v538 : BitVec 32 := Scalar.minsi c1024_i32_233 v537
  let c512_i32_907 : BitVec 32 := 512#32
  let v1433 : BitVec 32 := Scalar.subi v538 c512_i32_907
  let v1434 : BitVec 32 := Scalar.maxsi c0_i32_908 v1433
  let v1435 : BitVec 32 := Scalar.minsi c256_i32_909 v1434
  let c256_i32_906 : BitVec 32 := 256#32
  let c0_i32_905 : BitVec 32 := 0#32
  let c1024_i32_231 : BitVec 32 := 1024#32
  let c0_i32_230 : BitVec 32 := 0#32
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let v1436 : BitVec 1 := Scalar.cmpi .sgt v1435 v1432
  let v1437 : BitVec 32 := Scalar.extui v1436
  let c0_i32_910 : BitVec 32 := 0#32
  let v1438 : BitVec 1 := Scalar.cmpi .ne v1437 c0_i32_910
  v1438

def k3_off707 (i : grid3.Coords) (v530 : BitVec 32) (v535 : BitVec 32) (k3_t177 : Fin (k3_t177_loop i v530 v535).trips) : Fin 2 → Nat :=
  let c256_i32_906 : BitVec 32 := 256#32
  let c0_i32_905 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let c1_i32_1196 : BitVec 32 := 1#32
  let arg13 : BitVec 32 := Scf.iv v1432 c1_i32_1196 k3_t177
  let v1828 : Index := Scalar.indexCast arg13
  let c0_1206 : Index := 0#32
  ![v1828.toNat, 0]
def k3_off708 (i : grid3.Coords) (v530 : BitVec 32) (v535 : BitVec 32) (k3_t177 : Fin (k3_t177_loop i v530 v535).trips) : Fin 2 → Nat :=
  let c256_i32_906 : BitVec 32 := 256#32
  let c0_i32_905 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let c1_i32_1196 : BitVec 32 := 1#32
  let arg13 : BitVec 32 := Scf.iv v1432 c1_i32_1196 k3_t177
  let v1832 : Index := Scalar.indexCast arg13
  let c16_1207 : Index := 16#32
  ![v1832.toNat, 16]
def k3_off709 (i : grid3.Coords) (v530 : BitVec 32) (v535 : BitVec 32) (k3_t177 : Fin (k3_t177_loop i v530 v535).trips) : Fin 2 → Nat :=
  let c256_i32_906 : BitVec 32 := 256#32
  let c0_i32_905 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let c1_i32_1196 : BitVec 32 := 1#32
  let arg13 : BitVec 32 := Scf.iv v1432 c1_i32_1196 k3_t177
  let v1836 : Index := Scalar.indexCast arg13
  let c32_1208 : Index := 32#32
  ![v1836.toNat, 32]
def k3_off710 (i : grid3.Coords) (v530 : BitVec 32) (v535 : BitVec 32) (k3_t177 : Fin (k3_t177_loop i v530 v535).trips) : Fin 2 → Nat :=
  let c256_i32_906 : BitVec 32 := 256#32
  let c0_i32_905 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let c1_i32_1196 : BitVec 32 := 1#32
  let arg13 : BitVec 32 := Scf.iv v1432 c1_i32_1196 k3_t177
  let v1840 : Index := Scalar.indexCast arg13
  let c48_1209 : Index := 48#32
  ![v1840.toNat, 48]
@[reducible] def k3_t178_loop (i : grid3.Coords) (v530 : BitVec 32) (v535 : BitVec 32) : Scf.Loop 32 :=
  let c256_i32_906 : BitVec 32 := 256#32
  let c0_i32_905 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let c256_i32_909 : BitVec 32 := 256#32
  let c0_i32_908 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c512_i32_907 : BitVec 32 := 512#32
  let v1433 : BitVec 32 := Scalar.subi v538 c512_i32_907
  let v1434 : BitVec 32 := Scalar.maxsi c0_i32_908 v1433
  let v1435 : BitVec 32 := Scalar.minsi c256_i32_909 v1434
  let v1805 : BitVec 32 := Scalar.subi v1435 v1432
  let c1_i32_1195 : BitVec 32 := 1#32
  let v1807 : BitVec 32 := Scalar.divsi v1805 c1_i32_1195
  let v1808 : BitVec 32 := Scalar.muli v1807 c1_i32_1195
  let v1809 : BitVec 32 := Scalar.addi v1432 v1808
  let v1806 : BitVec 32 := Scalar.addi v1432 v1805
  let c1_i32_1197 : BitVec 32 := 1#32
  ⟨v1809, v1806, c1_i32_1197⟩
def k3_off711 (i : grid3.Coords) (v530 : BitVec 32) (v535 : BitVec 32) (k3_t178 : Fin (k3_t178_loop i v530 v535).trips) : Fin 2 → Nat :=
  let c256_i32_906 : BitVec 32 := 256#32
  let c0_i32_905 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let c256_i32_909 : BitVec 32 := 256#32
  let c0_i32_908 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c512_i32_907 : BitVec 32 := 512#32
  let v1433 : BitVec 32 := Scalar.subi v538 c512_i32_907
  let v1434 : BitVec 32 := Scalar.maxsi c0_i32_908 v1433
  let v1435 : BitVec 32 := Scalar.minsi c256_i32_909 v1434
  let v1805 : BitVec 32 := Scalar.subi v1435 v1432
  let c1_i32_1195 : BitVec 32 := 1#32
  let v1807 : BitVec 32 := Scalar.divsi v1805 c1_i32_1195
  let v1808 : BitVec 32 := Scalar.muli v1807 c1_i32_1195
  let v1809 : BitVec 32 := Scalar.addi v1432 v1808
  let c1_i32_1197 : BitVec 32 := 1#32
  let arg13 : BitVec 32 := Scf.iv v1809 c1_i32_1197 k3_t178
  let v1828 : Index := Scalar.indexCast arg13
  let c0_1206 : Index := 0#32
  ![v1828.toNat, 0]
def k3_off712 (i : grid3.Coords) (v530 : BitVec 32) (v535 : BitVec 32) (k3_t178 : Fin (k3_t178_loop i v530 v535).trips) : Fin 2 → Nat :=
  let c256_i32_906 : BitVec 32 := 256#32
  let c0_i32_905 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let c256_i32_909 : BitVec 32 := 256#32
  let c0_i32_908 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c512_i32_907 : BitVec 32 := 512#32
  let v1433 : BitVec 32 := Scalar.subi v538 c512_i32_907
  let v1434 : BitVec 32 := Scalar.maxsi c0_i32_908 v1433
  let v1435 : BitVec 32 := Scalar.minsi c256_i32_909 v1434
  let v1805 : BitVec 32 := Scalar.subi v1435 v1432
  let c1_i32_1195 : BitVec 32 := 1#32
  let v1807 : BitVec 32 := Scalar.divsi v1805 c1_i32_1195
  let v1808 : BitVec 32 := Scalar.muli v1807 c1_i32_1195
  let v1809 : BitVec 32 := Scalar.addi v1432 v1808
  let c1_i32_1197 : BitVec 32 := 1#32
  let arg13 : BitVec 32 := Scf.iv v1809 c1_i32_1197 k3_t178
  let v1832 : Index := Scalar.indexCast arg13
  let c16_1207 : Index := 16#32
  ![v1832.toNat, 16]
def k3_off713 (i : grid3.Coords) (v530 : BitVec 32) (v535 : BitVec 32) (k3_t178 : Fin (k3_t178_loop i v530 v535).trips) : Fin 2 → Nat :=
  let c256_i32_906 : BitVec 32 := 256#32
  let c0_i32_905 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let c256_i32_909 : BitVec 32 := 256#32
  let c0_i32_908 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c512_i32_907 : BitVec 32 := 512#32
  let v1433 : BitVec 32 := Scalar.subi v538 c512_i32_907
  let v1434 : BitVec 32 := Scalar.maxsi c0_i32_908 v1433
  let v1435 : BitVec 32 := Scalar.minsi c256_i32_909 v1434
  let v1805 : BitVec 32 := Scalar.subi v1435 v1432
  let c1_i32_1195 : BitVec 32 := 1#32
  let v1807 : BitVec 32 := Scalar.divsi v1805 c1_i32_1195
  let v1808 : BitVec 32 := Scalar.muli v1807 c1_i32_1195
  let v1809 : BitVec 32 := Scalar.addi v1432 v1808
  let c1_i32_1197 : BitVec 32 := 1#32
  let arg13 : BitVec 32 := Scf.iv v1809 c1_i32_1197 k3_t178
  let v1836 : Index := Scalar.indexCast arg13
  let c32_1208 : Index := 32#32
  ![v1836.toNat, 32]
def k3_off714 (i : grid3.Coords) (v530 : BitVec 32) (v535 : BitVec 32) (k3_t178 : Fin (k3_t178_loop i v530 v535).trips) : Fin 2 → Nat :=
  let c256_i32_906 : BitVec 32 := 256#32
  let c0_i32_905 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c512_i32_904 : BitVec 32 := 512#32
  let v1430 : BitVec 32 := Scalar.subi v533 c512_i32_904
  let v1431 : BitVec 32 := Scalar.maxsi c0_i32_905 v1430
  let v1432 : BitVec 32 := Scalar.minsi c256_i32_906 v1431
  let c256_i32_909 : BitVec 32 := 256#32
  let c0_i32_908 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c512_i32_907 : BitVec 32 := 512#32
  let v1433 : BitVec 32 := Scalar.subi v538 c512_i32_907
  let v1434 : BitVec 32 := Scalar.maxsi c0_i32_908 v1433
  let v1435 : BitVec 32 := Scalar.minsi c256_i32_909 v1434
  let v1805 : BitVec 32 := Scalar.subi v1435 v1432
  let c1_i32_1195 : BitVec 32 := 1#32
  let v1807 : BitVec 32 := Scalar.divsi v1805 c1_i32_1195
  let v1808 : BitVec 32 := Scalar.muli v1807 c1_i32_1195
  let v1809 : BitVec 32 := Scalar.addi v1432 v1808
  let c1_i32_1197 : BitVec 32 := 1#32
  let arg13 : BitVec 32 := Scf.iv v1809 c1_i32_1197 k3_t178
  let v1840 : Index := Scalar.indexCast arg13
  let c48_1209 : Index := 48#32
  ![v1840.toNat, 48]
@[reducible] def k3_t179_loop (i : grid3.Coords) (v540 : BitVec 32) (v546 : BitVec 32) : Scf.Loop 32 :=
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let c256_i32_916 : BitVec 32 := 256#32
  let c0_i32_915 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c512_i32_914 : BitVec 32 := 512#32
  let v1442 : BitVec 32 := Scalar.subi v550 c512_i32_914
  let v1443 : BitVec 32 := Scalar.maxsi c0_i32_915 v1442
  let v1444 : BitVec 32 := Scalar.minsi c256_i32_916 v1443
  let v1805 : BitVec 32 := Scalar.subi v1444 v1441
  let c1_i32_1195 : BitVec 32 := 1#32
  let v1807 : BitVec 32 := Scalar.divsi v1805 c1_i32_1195
  let v1808 : BitVec 32 := Scalar.muli v1807 c1_i32_1195
  let v1809 : BitVec 32 := Scalar.addi v1441 v1808
  let c1_i32_1196 : BitVec 32 := 1#32
  ⟨v1441, v1809, c1_i32_1196⟩
def k3_cond90 (i : grid3.Coords) (v540 : BitVec 32) (v546 : BitVec 32) : BitVec 1 :=
  let c256_i32_916 : BitVec 32 := 256#32
  let c0_i32_915 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v548 : BitVec 32 := Scalar.subi v547 v3
  let v549 : BitVec 32 := Scalar.maxsi c0_i32_238 v548
  let v550 : BitVec 32 := Scalar.minsi c1024_i32_239 v549
  let c512_i32_914 : BitVec 32 := 512#32
  let v1442 : BitVec 32 := Scalar.subi v550 c512_i32_914
  let v1443 : BitVec 32 := Scalar.maxsi c0_i32_915 v1442
  let v1444 : BitVec 32 := Scalar.minsi c256_i32_916 v1443
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let v1445 : BitVec 1 := Scalar.cmpi .sgt v1444 v1441
  let v1446 : BitVec 32 := Scalar.extui v1445
  let c0_i32_917 : BitVec 32 := 0#32
  let v1447 : BitVec 1 := Scalar.cmpi .ne v1446 c0_i32_917
  v1447

def k3_off715 (i : grid3.Coords) (v540 : BitVec 32) (v546 : BitVec 32) (k3_t179 : Fin (k3_t179_loop i v540 v546).trips) : Fin 2 → Nat :=
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let c1_i32_1196 : BitVec 32 := 1#32
  let arg13 : BitVec 32 := Scf.iv v1441 c1_i32_1196 k3_t179
  let v1828 : Index := Scalar.indexCast arg13
  let c64 : Index := 64#32
  ![v1828.toNat, 64]
def k3_off716 (i : grid3.Coords) (v540 : BitVec 32) (v546 : BitVec 32) (k3_t179 : Fin (k3_t179_loop i v540 v546).trips) : Fin 2 → Nat :=
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let c1_i32_1196 : BitVec 32 := 1#32
  let arg13 : BitVec 32 := Scf.iv v1441 c1_i32_1196 k3_t179
  let v1832 : Index := Scalar.indexCast arg13
  let c80 : Index := 80#32
  ![v1832.toNat, 80]
def k3_off717 (i : grid3.Coords) (v540 : BitVec 32) (v546 : BitVec 32) (k3_t179 : Fin (k3_t179_loop i v540 v546).trips) : Fin 2 → Nat :=
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let c1_i32_1196 : BitVec 32 := 1#32
  let arg13 : BitVec 32 := Scf.iv v1441 c1_i32_1196 k3_t179
  let v1836 : Index := Scalar.indexCast arg13
  let c96 : Index := 96#32
  ![v1836.toNat, 96]
def k3_off718 (i : grid3.Coords) (v540 : BitVec 32) (v546 : BitVec 32) (k3_t179 : Fin (k3_t179_loop i v540 v546).trips) : Fin 2 → Nat :=
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let c1_i32_1196 : BitVec 32 := 1#32
  let arg13 : BitVec 32 := Scf.iv v1441 c1_i32_1196 k3_t179
  let v1840 : Index := Scalar.indexCast arg13
  let c112 : Index := 112#32
  ![v1840.toNat, 112]
@[reducible] def k3_t180_loop (i : grid3.Coords) (v540 : BitVec 32) (v546 : BitVec 32) : Scf.Loop 32 :=
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let c256_i32_916 : BitVec 32 := 256#32
  let c0_i32_915 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c512_i32_914 : BitVec 32 := 512#32
  let v1442 : BitVec 32 := Scalar.subi v550 c512_i32_914
  let v1443 : BitVec 32 := Scalar.maxsi c0_i32_915 v1442
  let v1444 : BitVec 32 := Scalar.minsi c256_i32_916 v1443
  let v1805 : BitVec 32 := Scalar.subi v1444 v1441
  let c1_i32_1195 : BitVec 32 := 1#32
  let v1807 : BitVec 32 := Scalar.divsi v1805 c1_i32_1195
  let v1808 : BitVec 32 := Scalar.muli v1807 c1_i32_1195
  let v1809 : BitVec 32 := Scalar.addi v1441 v1808
  let v1806 : BitVec 32 := Scalar.addi v1441 v1805
  let c1_i32_1197 : BitVec 32 := 1#32
  ⟨v1809, v1806, c1_i32_1197⟩
def k3_off719 (i : grid3.Coords) (v540 : BitVec 32) (v546 : BitVec 32) (k3_t180 : Fin (k3_t180_loop i v540 v546).trips) : Fin 2 → Nat :=
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let c256_i32_916 : BitVec 32 := 256#32
  let c0_i32_915 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c512_i32_914 : BitVec 32 := 512#32
  let v1442 : BitVec 32 := Scalar.subi v550 c512_i32_914
  let v1443 : BitVec 32 := Scalar.maxsi c0_i32_915 v1442
  let v1444 : BitVec 32 := Scalar.minsi c256_i32_916 v1443
  let v1805 : BitVec 32 := Scalar.subi v1444 v1441
  let c1_i32_1195 : BitVec 32 := 1#32
  let v1807 : BitVec 32 := Scalar.divsi v1805 c1_i32_1195
  let v1808 : BitVec 32 := Scalar.muli v1807 c1_i32_1195
  let v1809 : BitVec 32 := Scalar.addi v1441 v1808
  let c1_i32_1197 : BitVec 32 := 1#32
  let arg13 : BitVec 32 := Scf.iv v1809 c1_i32_1197 k3_t180
  let v1828 : Index := Scalar.indexCast arg13
  let c64 : Index := 64#32
  ![v1828.toNat, 64]
def k3_off720 (i : grid3.Coords) (v540 : BitVec 32) (v546 : BitVec 32) (k3_t180 : Fin (k3_t180_loop i v540 v546).trips) : Fin 2 → Nat :=
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let c256_i32_916 : BitVec 32 := 256#32
  let c0_i32_915 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c512_i32_914 : BitVec 32 := 512#32
  let v1442 : BitVec 32 := Scalar.subi v550 c512_i32_914
  let v1443 : BitVec 32 := Scalar.maxsi c0_i32_915 v1442
  let v1444 : BitVec 32 := Scalar.minsi c256_i32_916 v1443
  let v1805 : BitVec 32 := Scalar.subi v1444 v1441
  let c1_i32_1195 : BitVec 32 := 1#32
  let v1807 : BitVec 32 := Scalar.divsi v1805 c1_i32_1195
  let v1808 : BitVec 32 := Scalar.muli v1807 c1_i32_1195
  let v1809 : BitVec 32 := Scalar.addi v1441 v1808
  let c1_i32_1197 : BitVec 32 := 1#32
  let arg13 : BitVec 32 := Scf.iv v1809 c1_i32_1197 k3_t180
  let v1832 : Index := Scalar.indexCast arg13
  let c80 : Index := 80#32
  ![v1832.toNat, 80]
def k3_off721 (i : grid3.Coords) (v540 : BitVec 32) (v546 : BitVec 32) (k3_t180 : Fin (k3_t180_loop i v540 v546).trips) : Fin 2 → Nat :=
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let c256_i32_916 : BitVec 32 := 256#32
  let c0_i32_915 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c512_i32_914 : BitVec 32 := 512#32
  let v1442 : BitVec 32 := Scalar.subi v550 c512_i32_914
  let v1443 : BitVec 32 := Scalar.maxsi c0_i32_915 v1442
  let v1444 : BitVec 32 := Scalar.minsi c256_i32_916 v1443
  let v1805 : BitVec 32 := Scalar.subi v1444 v1441
  let c1_i32_1195 : BitVec 32 := 1#32
  let v1807 : BitVec 32 := Scalar.divsi v1805 c1_i32_1195
  let v1808 : BitVec 32 := Scalar.muli v1807 c1_i32_1195
  let v1809 : BitVec 32 := Scalar.addi v1441 v1808
  let c1_i32_1197 : BitVec 32 := 1#32
  let arg13 : BitVec 32 := Scf.iv v1809 c1_i32_1197 k3_t180
  let v1836 : Index := Scalar.indexCast arg13
  let c96 : Index := 96#32
  ![v1836.toNat, 96]
def k3_off722 (i : grid3.Coords) (v540 : BitVec 32) (v546 : BitVec 32) (k3_t180 : Fin (k3_t180_loop i v540 v546).trips) : Fin 2 → Nat :=
  let c256_i32_913 : BitVec 32 := 256#32
  let c0_i32_912 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c512_i32_911 : BitVec 32 := 512#32
  let v1439 : BitVec 32 := Scalar.subi v544 c512_i32_911
  let v1440 : BitVec 32 := Scalar.maxsi c0_i32_912 v1439
  let v1441 : BitVec 32 := Scalar.minsi c256_i32_913 v1440
  let c256_i32_916 : BitVec 32 := 256#32
  let c0_i32_915 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c512_i32_914 : BitVec 32 := 512#32
  let v1442 : BitVec 32 := Scalar.subi v550 c512_i32_914
  let v1443 : BitVec 32 := Scalar.maxsi c0_i32_915 v1442
  let v1444 : BitVec 32 := Scalar.minsi c256_i32_916 v1443
  let v1805 : BitVec 32 := Scalar.subi v1444 v1441
  let c1_i32_1195 : BitVec 32 := 1#32
  let v1807 : BitVec 32 := Scalar.divsi v1805 c1_i32_1195
  let v1808 : BitVec 32 := Scalar.muli v1807 c1_i32_1195
  let v1809 : BitVec 32 := Scalar.addi v1441 v1808
  let c1_i32_1197 : BitVec 32 := 1#32
  let arg13 : BitVec 32 := Scf.iv v1809 c1_i32_1197 k3_t180
  let v1840 : Index := Scalar.indexCast arg13
  let c112 : Index := 112#32
  ![v1840.toNat, 112]
@[reducible] def k3_t181_loop (i : grid3.Coords) (v552 : BitVec 32) (v557 : BitVec 32) : Scf.Loop 32 :=
  let c256_i32_920 : BitVec 32 := 256#32
  let c0_i32_919 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let c256_i32_923 : BitVec 32 := 256#32
  let c0_i32_922 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c512_i32_921 : BitVec 32 := 512#32
  let v1451 : BitVec 32 := Scalar.subi v560 c512_i32_921
  let v1452 : BitVec 32 := Scalar.maxsi c0_i32_922 v1451
  let v1453 : BitVec 32 := Scalar.minsi c256_i32_923 v1452
  let v1805 : BitVec 32 := Scalar.subi v1453 v1450
  let c1_i32_1195 : BitVec 32 := 1#32
  let v1807 : BitVec 32 := Scalar.divsi v1805 c1_i32_1195
  let v1808 : BitVec 32 := Scalar.muli v1807 c1_i32_1195
  let v1809 : BitVec 32 := Scalar.addi v1450 v1808
  let c1_i32_1196 : BitVec 32 := 1#32
  ⟨v1450, v1809, c1_i32_1196⟩
def k3_cond91 (i : grid3.Coords) (v552 : BitVec 32) (v557 : BitVec 32) : BitVec 1 :=
  let c256_i32_923 : BitVec 32 := 256#32
  let c0_i32_922 : BitVec 32 := 0#32
  let c1024_i32_243 : BitVec 32 := 1024#32
  let c0_i32_242 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v558 : BitVec 32 := Scalar.subi v557 v3
  let v559 : BitVec 32 := Scalar.maxsi c0_i32_242 v558
  let v560 : BitVec 32 := Scalar.minsi c1024_i32_243 v559
  let c512_i32_921 : BitVec 32 := 512#32
  let v1451 : BitVec 32 := Scalar.subi v560 c512_i32_921
  let v1452 : BitVec 32 := Scalar.maxsi c0_i32_922 v1451
  let v1453 : BitVec 32 := Scalar.minsi c256_i32_923 v1452
  let c256_i32_920 : BitVec 32 := 256#32
  let c0_i32_919 : BitVec 32 := 0#32
  let c1024_i32_241 : BitVec 32 := 1024#32
  let c0_i32_240 : BitVec 32 := 0#32
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let v1454 : BitVec 1 := Scalar.cmpi .sgt v1453 v1450
  let v1455 : BitVec 32 := Scalar.extui v1454
  let c0_i32_924 : BitVec 32 := 0#32
  let v1456 : BitVec 1 := Scalar.cmpi .ne v1455 c0_i32_924
  v1456

def k3_off723 (i : grid3.Coords) (v552 : BitVec 32) (v557 : BitVec 32) (k3_t181 : Fin (k3_t181_loop i v552 v557).trips) : Fin 2 → Nat :=
  let c256_i32_920 : BitVec 32 := 256#32
  let c0_i32_919 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let c1_i32_1196 : BitVec 32 := 1#32
  let arg13 : BitVec 32 := Scf.iv v1450 c1_i32_1196 k3_t181
  let v1828 : Index := Scalar.indexCast arg13
  let c0_1206 : Index := 0#32
  ![v1828.toNat, 0]
def k3_off724 (i : grid3.Coords) (v552 : BitVec 32) (v557 : BitVec 32) (k3_t181 : Fin (k3_t181_loop i v552 v557).trips) : Fin 2 → Nat :=
  let c256_i32_920 : BitVec 32 := 256#32
  let c0_i32_919 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let c1_i32_1196 : BitVec 32 := 1#32
  let arg13 : BitVec 32 := Scf.iv v1450 c1_i32_1196 k3_t181
  let v1832 : Index := Scalar.indexCast arg13
  let c16_1207 : Index := 16#32
  ![v1832.toNat, 16]
def k3_off725 (i : grid3.Coords) (v552 : BitVec 32) (v557 : BitVec 32) (k3_t181 : Fin (k3_t181_loop i v552 v557).trips) : Fin 2 → Nat :=
  let c256_i32_920 : BitVec 32 := 256#32
  let c0_i32_919 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let c1_i32_1196 : BitVec 32 := 1#32
  let arg13 : BitVec 32 := Scf.iv v1450 c1_i32_1196 k3_t181
  let v1836 : Index := Scalar.indexCast arg13
  let c32_1208 : Index := 32#32
  ![v1836.toNat, 32]
def k3_off726 (i : grid3.Coords) (v552 : BitVec 32) (v557 : BitVec 32) (k3_t181 : Fin (k3_t181_loop i v552 v557).trips) : Fin 2 → Nat :=
  let c256_i32_920 : BitVec 32 := 256#32
  let c0_i32_919 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let c1_i32_1196 : BitVec 32 := 1#32
  let arg13 : BitVec 32 := Scf.iv v1450 c1_i32_1196 k3_t181
  let v1840 : Index := Scalar.indexCast arg13
  let c48_1209 : Index := 48#32
  ![v1840.toNat, 48]
@[reducible] def k3_t182_loop (i : grid3.Coords) (v552 : BitVec 32) (v557 : BitVec 32) : Scf.Loop 32 :=
  let c256_i32_920 : BitVec 32 := 256#32
  let c0_i32_919 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let c256_i32_923 : BitVec 32 := 256#32
  let c0_i32_922 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c512_i32_921 : BitVec 32 := 512#32
  let v1451 : BitVec 32 := Scalar.subi v560 c512_i32_921
  let v1452 : BitVec 32 := Scalar.maxsi c0_i32_922 v1451
  let v1453 : BitVec 32 := Scalar.minsi c256_i32_923 v1452
  let v1805 : BitVec 32 := Scalar.subi v1453 v1450
  let c1_i32_1195 : BitVec 32 := 1#32
  let v1807 : BitVec 32 := Scalar.divsi v1805 c1_i32_1195
  let v1808 : BitVec 32 := Scalar.muli v1807 c1_i32_1195
  let v1809 : BitVec 32 := Scalar.addi v1450 v1808
  let v1806 : BitVec 32 := Scalar.addi v1450 v1805
  let c1_i32_1197 : BitVec 32 := 1#32
  ⟨v1809, v1806, c1_i32_1197⟩
def k3_off727 (i : grid3.Coords) (v552 : BitVec 32) (v557 : BitVec 32) (k3_t182 : Fin (k3_t182_loop i v552 v557).trips) : Fin 2 → Nat :=
  let c256_i32_920 : BitVec 32 := 256#32
  let c0_i32_919 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let c256_i32_923 : BitVec 32 := 256#32
  let c0_i32_922 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c512_i32_921 : BitVec 32 := 512#32
  let v1451 : BitVec 32 := Scalar.subi v560 c512_i32_921
  let v1452 : BitVec 32 := Scalar.maxsi c0_i32_922 v1451
  let v1453 : BitVec 32 := Scalar.minsi c256_i32_923 v1452
  let v1805 : BitVec 32 := Scalar.subi v1453 v1450
  let c1_i32_1195 : BitVec 32 := 1#32
  let v1807 : BitVec 32 := Scalar.divsi v1805 c1_i32_1195
  let v1808 : BitVec 32 := Scalar.muli v1807 c1_i32_1195
  let v1809 : BitVec 32 := Scalar.addi v1450 v1808
  let c1_i32_1197 : BitVec 32 := 1#32
  let arg13 : BitVec 32 := Scf.iv v1809 c1_i32_1197 k3_t182
  let v1828 : Index := Scalar.indexCast arg13
  let c0_1206 : Index := 0#32
  ![v1828.toNat, 0]
def k3_off728 (i : grid3.Coords) (v552 : BitVec 32) (v557 : BitVec 32) (k3_t182 : Fin (k3_t182_loop i v552 v557).trips) : Fin 2 → Nat :=
  let c256_i32_920 : BitVec 32 := 256#32
  let c0_i32_919 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let c256_i32_923 : BitVec 32 := 256#32
  let c0_i32_922 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c512_i32_921 : BitVec 32 := 512#32
  let v1451 : BitVec 32 := Scalar.subi v560 c512_i32_921
  let v1452 : BitVec 32 := Scalar.maxsi c0_i32_922 v1451
  let v1453 : BitVec 32 := Scalar.minsi c256_i32_923 v1452
  let v1805 : BitVec 32 := Scalar.subi v1453 v1450
  let c1_i32_1195 : BitVec 32 := 1#32
  let v1807 : BitVec 32 := Scalar.divsi v1805 c1_i32_1195
  let v1808 : BitVec 32 := Scalar.muli v1807 c1_i32_1195
  let v1809 : BitVec 32 := Scalar.addi v1450 v1808
  let c1_i32_1197 : BitVec 32 := 1#32
  let arg13 : BitVec 32 := Scf.iv v1809 c1_i32_1197 k3_t182
  let v1832 : Index := Scalar.indexCast arg13
  let c16_1207 : Index := 16#32
  ![v1832.toNat, 16]
def k3_off729 (i : grid3.Coords) (v552 : BitVec 32) (v557 : BitVec 32) (k3_t182 : Fin (k3_t182_loop i v552 v557).trips) : Fin 2 → Nat :=
  let c256_i32_920 : BitVec 32 := 256#32
  let c0_i32_919 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let c256_i32_923 : BitVec 32 := 256#32
  let c0_i32_922 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c512_i32_921 : BitVec 32 := 512#32
  let v1451 : BitVec 32 := Scalar.subi v560 c512_i32_921
  let v1452 : BitVec 32 := Scalar.maxsi c0_i32_922 v1451
  let v1453 : BitVec 32 := Scalar.minsi c256_i32_923 v1452
  let v1805 : BitVec 32 := Scalar.subi v1453 v1450
  let c1_i32_1195 : BitVec 32 := 1#32
  let v1807 : BitVec 32 := Scalar.divsi v1805 c1_i32_1195
  let v1808 : BitVec 32 := Scalar.muli v1807 c1_i32_1195
  let v1809 : BitVec 32 := Scalar.addi v1450 v1808
  let c1_i32_1197 : BitVec 32 := 1#32
  let arg13 : BitVec 32 := Scf.iv v1809 c1_i32_1197 k3_t182
  let v1836 : Index := Scalar.indexCast arg13
  let c32_1208 : Index := 32#32
  ![v1836.toNat, 32]
def k3_off730 (i : grid3.Coords) (v552 : BitVec 32) (v557 : BitVec 32) (k3_t182 : Fin (k3_t182_loop i v552 v557).trips) : Fin 2 → Nat :=
  let c256_i32_920 : BitVec 32 := 256#32
  let c0_i32_919 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c512_i32_918 : BitVec 32 := 512#32
  let v1448 : BitVec 32 := Scalar.subi v555 c512_i32_918
  let v1449 : BitVec 32 := Scalar.maxsi c0_i32_919 v1448
  let v1450 : BitVec 32 := Scalar.minsi c256_i32_920 v1449
  let c256_i32_923 : BitVec 32 := 256#32
  let c0_i32_922 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c512_i32_921 : BitVec 32 := 512#32
  let v1451 : BitVec 32 := Scalar.subi v560 c512_i32_921
  let v1452 : BitVec 32 := Scalar.maxsi c0_i32_922 v1451
  let v1453 : BitVec 32 := Scalar.minsi c256_i32_923 v1452
  let v1805 : BitVec 32 := Scalar.subi v1453 v1450
  let c1_i32_1195 : BitVec 32 := 1#32
  let v1807 : BitVec 32 := Scalar.divsi v1805 c1_i32_1195
  let v1808 : BitVec 32 := Scalar.muli v1807 c1_i32_1195
  let v1809 : BitVec 32 := Scalar.addi v1450 v1808
  let c1_i32_1197 : BitVec 32 := 1#32
  let arg13 : BitVec 32 := Scf.iv v1809 c1_i32_1197 k3_t182
  let v1840 : Index := Scalar.indexCast arg13
  let c48_1209 : Index := 48#32
  ![v1840.toNat, 48]
@[reducible] def k3_t183_loop (i : grid3.Coords) (v562 : BitVec 32) (v568 : BitVec 32) : Scf.Loop 32 :=
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let c256_i32_930 : BitVec 32 := 256#32
  let c0_i32_929 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c512_i32_928 : BitVec 32 := 512#32
  let v1460 : BitVec 32 := Scalar.subi v572 c512_i32_928
  let v1461 : BitVec 32 := Scalar.maxsi c0_i32_929 v1460
  let v1462 : BitVec 32 := Scalar.minsi c256_i32_930 v1461
  let v1805 : BitVec 32 := Scalar.subi v1462 v1459
  let c1_i32_1195 : BitVec 32 := 1#32
  let v1807 : BitVec 32 := Scalar.divsi v1805 c1_i32_1195
  let v1808 : BitVec 32 := Scalar.muli v1807 c1_i32_1195
  let v1809 : BitVec 32 := Scalar.addi v1459 v1808
  let c1_i32_1196 : BitVec 32 := 1#32
  ⟨v1459, v1809, c1_i32_1196⟩
def k3_cond92 (i : grid3.Coords) (v562 : BitVec 32) (v568 : BitVec 32) : BitVec 1 :=
  let c256_i32_930 : BitVec 32 := 256#32
  let c0_i32_929 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v570 : BitVec 32 := Scalar.subi v569 v3
  let v571 : BitVec 32 := Scalar.maxsi c0_i32_248 v570
  let v572 : BitVec 32 := Scalar.minsi c1024_i32_249 v571
  let c512_i32_928 : BitVec 32 := 512#32
  let v1460 : BitVec 32 := Scalar.subi v572 c512_i32_928
  let v1461 : BitVec 32 := Scalar.maxsi c0_i32_929 v1460
  let v1462 : BitVec 32 := Scalar.minsi c256_i32_930 v1461
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let v1463 : BitVec 1 := Scalar.cmpi .sgt v1462 v1459
  let v1464 : BitVec 32 := Scalar.extui v1463
  let c0_i32_931 : BitVec 32 := 0#32
  let v1465 : BitVec 1 := Scalar.cmpi .ne v1464 c0_i32_931
  v1465

def k3_off731 (i : grid3.Coords) (v562 : BitVec 32) (v568 : BitVec 32) (k3_t183 : Fin (k3_t183_loop i v562 v568).trips) : Fin 2 → Nat :=
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let c1_i32_1196 : BitVec 32 := 1#32
  let arg13 : BitVec 32 := Scf.iv v1459 c1_i32_1196 k3_t183
  let v1828 : Index := Scalar.indexCast arg13
  let c64 : Index := 64#32
  ![v1828.toNat, 64]
def k3_off732 (i : grid3.Coords) (v562 : BitVec 32) (v568 : BitVec 32) (k3_t183 : Fin (k3_t183_loop i v562 v568).trips) : Fin 2 → Nat :=
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let c1_i32_1196 : BitVec 32 := 1#32
  let arg13 : BitVec 32 := Scf.iv v1459 c1_i32_1196 k3_t183
  let v1832 : Index := Scalar.indexCast arg13
  let c80 : Index := 80#32
  ![v1832.toNat, 80]
def k3_off733 (i : grid3.Coords) (v562 : BitVec 32) (v568 : BitVec 32) (k3_t183 : Fin (k3_t183_loop i v562 v568).trips) : Fin 2 → Nat :=
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let c1_i32_1196 : BitVec 32 := 1#32
  let arg13 : BitVec 32 := Scf.iv v1459 c1_i32_1196 k3_t183
  let v1836 : Index := Scalar.indexCast arg13
  let c96 : Index := 96#32
  ![v1836.toNat, 96]
def k3_off734 (i : grid3.Coords) (v562 : BitVec 32) (v568 : BitVec 32) (k3_t183 : Fin (k3_t183_loop i v562 v568).trips) : Fin 2 → Nat :=
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let c1_i32_1196 : BitVec 32 := 1#32
  let arg13 : BitVec 32 := Scf.iv v1459 c1_i32_1196 k3_t183
  let v1840 : Index := Scalar.indexCast arg13
  let c112 : Index := 112#32
  ![v1840.toNat, 112]
@[reducible] def k3_t184_loop (i : grid3.Coords) (v562 : BitVec 32) (v568 : BitVec 32) : Scf.Loop 32 :=
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let c256_i32_930 : BitVec 32 := 256#32
  let c0_i32_929 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c512_i32_928 : BitVec 32 := 512#32
  let v1460 : BitVec 32 := Scalar.subi v572 c512_i32_928
  let v1461 : BitVec 32 := Scalar.maxsi c0_i32_929 v1460
  let v1462 : BitVec 32 := Scalar.minsi c256_i32_930 v1461
  let v1805 : BitVec 32 := Scalar.subi v1462 v1459
  let c1_i32_1195 : BitVec 32 := 1#32
  let v1807 : BitVec 32 := Scalar.divsi v1805 c1_i32_1195
  let v1808 : BitVec 32 := Scalar.muli v1807 c1_i32_1195
  let v1809 : BitVec 32 := Scalar.addi v1459 v1808
  let v1806 : BitVec 32 := Scalar.addi v1459 v1805
  let c1_i32_1197 : BitVec 32 := 1#32
  ⟨v1809, v1806, c1_i32_1197⟩
def k3_off735 (i : grid3.Coords) (v562 : BitVec 32) (v568 : BitVec 32) (k3_t184 : Fin (k3_t184_loop i v562 v568).trips) : Fin 2 → Nat :=
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let c256_i32_930 : BitVec 32 := 256#32
  let c0_i32_929 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c512_i32_928 : BitVec 32 := 512#32
  let v1460 : BitVec 32 := Scalar.subi v572 c512_i32_928
  let v1461 : BitVec 32 := Scalar.maxsi c0_i32_929 v1460
  let v1462 : BitVec 32 := Scalar.minsi c256_i32_930 v1461
  let v1805 : BitVec 32 := Scalar.subi v1462 v1459
  let c1_i32_1195 : BitVec 32 := 1#32
  let v1807 : BitVec 32 := Scalar.divsi v1805 c1_i32_1195
  let v1808 : BitVec 32 := Scalar.muli v1807 c1_i32_1195
  let v1809 : BitVec 32 := Scalar.addi v1459 v1808
  let c1_i32_1197 : BitVec 32 := 1#32
  let arg13 : BitVec 32 := Scf.iv v1809 c1_i32_1197 k3_t184
  let v1828 : Index := Scalar.indexCast arg13
  let c64 : Index := 64#32
  ![v1828.toNat, 64]
def k3_off736 (i : grid3.Coords) (v562 : BitVec 32) (v568 : BitVec 32) (k3_t184 : Fin (k3_t184_loop i v562 v568).trips) : Fin 2 → Nat :=
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let c256_i32_930 : BitVec 32 := 256#32
  let c0_i32_929 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c512_i32_928 : BitVec 32 := 512#32
  let v1460 : BitVec 32 := Scalar.subi v572 c512_i32_928
  let v1461 : BitVec 32 := Scalar.maxsi c0_i32_929 v1460
  let v1462 : BitVec 32 := Scalar.minsi c256_i32_930 v1461
  let v1805 : BitVec 32 := Scalar.subi v1462 v1459
  let c1_i32_1195 : BitVec 32 := 1#32
  let v1807 : BitVec 32 := Scalar.divsi v1805 c1_i32_1195
  let v1808 : BitVec 32 := Scalar.muli v1807 c1_i32_1195
  let v1809 : BitVec 32 := Scalar.addi v1459 v1808
  let c1_i32_1197 : BitVec 32 := 1#32
  let arg13 : BitVec 32 := Scf.iv v1809 c1_i32_1197 k3_t184
  let v1832 : Index := Scalar.indexCast arg13
  let c80 : Index := 80#32
  ![v1832.toNat, 80]
def k3_off737 (i : grid3.Coords) (v562 : BitVec 32) (v568 : BitVec 32) (k3_t184 : Fin (k3_t184_loop i v562 v568).trips) : Fin 2 → Nat :=
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let c256_i32_930 : BitVec 32 := 256#32
  let c0_i32_929 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c512_i32_928 : BitVec 32 := 512#32
  let v1460 : BitVec 32 := Scalar.subi v572 c512_i32_928
  let v1461 : BitVec 32 := Scalar.maxsi c0_i32_929 v1460
  let v1462 : BitVec 32 := Scalar.minsi c256_i32_930 v1461
  let v1805 : BitVec 32 := Scalar.subi v1462 v1459
  let c1_i32_1195 : BitVec 32 := 1#32
  let v1807 : BitVec 32 := Scalar.divsi v1805 c1_i32_1195
  let v1808 : BitVec 32 := Scalar.muli v1807 c1_i32_1195
  let v1809 : BitVec 32 := Scalar.addi v1459 v1808
  let c1_i32_1197 : BitVec 32 := 1#32
  let arg13 : BitVec 32 := Scf.iv v1809 c1_i32_1197 k3_t184
  let v1836 : Index := Scalar.indexCast arg13
  let c96 : Index := 96#32
  ![v1836.toNat, 96]
def k3_off738 (i : grid3.Coords) (v562 : BitVec 32) (v568 : BitVec 32) (k3_t184 : Fin (k3_t184_loop i v562 v568).trips) : Fin 2 → Nat :=
  let c256_i32_927 : BitVec 32 := 256#32
  let c0_i32_926 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c512_i32_925 : BitVec 32 := 512#32
  let v1457 : BitVec 32 := Scalar.subi v566 c512_i32_925
  let v1458 : BitVec 32 := Scalar.maxsi c0_i32_926 v1457
  let v1459 : BitVec 32 := Scalar.minsi c256_i32_927 v1458
  let c256_i32_930 : BitVec 32 := 256#32
  let c0_i32_929 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c512_i32_928 : BitVec 32 := 512#32
  let v1460 : BitVec 32 := Scalar.subi v572 c512_i32_928
  let v1461 : BitVec 32 := Scalar.maxsi c0_i32_929 v1460
  let v1462 : BitVec 32 := Scalar.minsi c256_i32_930 v1461
  let v1805 : BitVec 32 := Scalar.subi v1462 v1459
  let c1_i32_1195 : BitVec 32 := 1#32
  let v1807 : BitVec 32 := Scalar.divsi v1805 c1_i32_1195
  let v1808 : BitVec 32 := Scalar.muli v1807 c1_i32_1195
  let v1809 : BitVec 32 := Scalar.addi v1459 v1808
  let c1_i32_1197 : BitVec 32 := 1#32
  let arg13 : BitVec 32 := Scf.iv v1809 c1_i32_1197 k3_t184
  let v1840 : Index := Scalar.indexCast arg13
  let c112 : Index := 112#32
  ![v1840.toNat, 112]
@[reducible] def k3_t185_loop (i : grid3.Coords) (v574 : BitVec 32) (v579 : BitVec 32) : Scf.Loop 32 :=
  let c256_i32_934 : BitVec 32 := 256#32
  let c0_i32_933 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let c256_i32_937 : BitVec 32 := 256#32
  let c0_i32_936 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c512_i32_935 : BitVec 32 := 512#32
  let v1469 : BitVec 32 := Scalar.subi v582 c512_i32_935
  let v1470 : BitVec 32 := Scalar.maxsi c0_i32_936 v1469
  let v1471 : BitVec 32 := Scalar.minsi c256_i32_937 v1470
  let v1805 : BitVec 32 := Scalar.subi v1471 v1468
  let c1_i32_1195 : BitVec 32 := 1#32
  let v1807 : BitVec 32 := Scalar.divsi v1805 c1_i32_1195
  let v1808 : BitVec 32 := Scalar.muli v1807 c1_i32_1195
  let v1809 : BitVec 32 := Scalar.addi v1468 v1808
  let c1_i32_1196 : BitVec 32 := 1#32
  ⟨v1468, v1809, c1_i32_1196⟩
def k3_cond93 (i : grid3.Coords) (v574 : BitVec 32) (v579 : BitVec 32) : BitVec 1 :=
  let c256_i32_937 : BitVec 32 := 256#32
  let c0_i32_936 : BitVec 32 := 0#32
  let c1024_i32_253 : BitVec 32 := 1024#32
  let c0_i32_252 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v580 : BitVec 32 := Scalar.subi v579 v3
  let v581 : BitVec 32 := Scalar.maxsi c0_i32_252 v580
  let v582 : BitVec 32 := Scalar.minsi c1024_i32_253 v581
  let c512_i32_935 : BitVec 32 := 512#32
  let v1469 : BitVec 32 := Scalar.subi v582 c512_i32_935
  let v1470 : BitVec 32 := Scalar.maxsi c0_i32_936 v1469
  let v1471 : BitVec 32 := Scalar.minsi c256_i32_937 v1470
  let c256_i32_934 : BitVec 32 := 256#32
  let c0_i32_933 : BitVec 32 := 0#32
  let c1024_i32_251 : BitVec 32 := 1024#32
  let c0_i32_250 : BitVec 32 := 0#32
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let v1472 : BitVec 1 := Scalar.cmpi .sgt v1471 v1468
  let v1473 : BitVec 32 := Scalar.extui v1472
  let c0_i32_938 : BitVec 32 := 0#32
  let v1474 : BitVec 1 := Scalar.cmpi .ne v1473 c0_i32_938
  v1474

def k3_off739 (i : grid3.Coords) (v574 : BitVec 32) (v579 : BitVec 32) (k3_t185 : Fin (k3_t185_loop i v574 v579).trips) : Fin 2 → Nat :=
  let c256_i32_934 : BitVec 32 := 256#32
  let c0_i32_933 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let c1_i32_1196 : BitVec 32 := 1#32
  let arg13 : BitVec 32 := Scf.iv v1468 c1_i32_1196 k3_t185
  let v1828 : Index := Scalar.indexCast arg13
  let c0_1206 : Index := 0#32
  ![v1828.toNat, 0]
def k3_off740 (i : grid3.Coords) (v574 : BitVec 32) (v579 : BitVec 32) (k3_t185 : Fin (k3_t185_loop i v574 v579).trips) : Fin 2 → Nat :=
  let c256_i32_934 : BitVec 32 := 256#32
  let c0_i32_933 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let c1_i32_1196 : BitVec 32 := 1#32
  let arg13 : BitVec 32 := Scf.iv v1468 c1_i32_1196 k3_t185
  let v1832 : Index := Scalar.indexCast arg13
  let c16_1207 : Index := 16#32
  ![v1832.toNat, 16]
def k3_off741 (i : grid3.Coords) (v574 : BitVec 32) (v579 : BitVec 32) (k3_t185 : Fin (k3_t185_loop i v574 v579).trips) : Fin 2 → Nat :=
  let c256_i32_934 : BitVec 32 := 256#32
  let c0_i32_933 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let c1_i32_1196 : BitVec 32 := 1#32
  let arg13 : BitVec 32 := Scf.iv v1468 c1_i32_1196 k3_t185
  let v1836 : Index := Scalar.indexCast arg13
  let c32_1208 : Index := 32#32
  ![v1836.toNat, 32]
def k3_off742 (i : grid3.Coords) (v574 : BitVec 32) (v579 : BitVec 32) (k3_t185 : Fin (k3_t185_loop i v574 v579).trips) : Fin 2 → Nat :=
  let c256_i32_934 : BitVec 32 := 256#32
  let c0_i32_933 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let c1_i32_1196 : BitVec 32 := 1#32
  let arg13 : BitVec 32 := Scf.iv v1468 c1_i32_1196 k3_t185
  let v1840 : Index := Scalar.indexCast arg13
  let c48_1209 : Index := 48#32
  ![v1840.toNat, 48]
@[reducible] def k3_t186_loop (i : grid3.Coords) (v574 : BitVec 32) (v579 : BitVec 32) : Scf.Loop 32 :=
  let c256_i32_934 : BitVec 32 := 256#32
  let c0_i32_933 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let c256_i32_937 : BitVec 32 := 256#32
  let c0_i32_936 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c512_i32_935 : BitVec 32 := 512#32
  let v1469 : BitVec 32 := Scalar.subi v582 c512_i32_935
  let v1470 : BitVec 32 := Scalar.maxsi c0_i32_936 v1469
  let v1471 : BitVec 32 := Scalar.minsi c256_i32_937 v1470
  let v1805 : BitVec 32 := Scalar.subi v1471 v1468
  let c1_i32_1195 : BitVec 32 := 1#32
  let v1807 : BitVec 32 := Scalar.divsi v1805 c1_i32_1195
  let v1808 : BitVec 32 := Scalar.muli v1807 c1_i32_1195
  let v1809 : BitVec 32 := Scalar.addi v1468 v1808
  let v1806 : BitVec 32 := Scalar.addi v1468 v1805
  let c1_i32_1197 : BitVec 32 := 1#32
  ⟨v1809, v1806, c1_i32_1197⟩
def k3_off743 (i : grid3.Coords) (v574 : BitVec 32) (v579 : BitVec 32) (k3_t186 : Fin (k3_t186_loop i v574 v579).trips) : Fin 2 → Nat :=
  let c256_i32_934 : BitVec 32 := 256#32
  let c0_i32_933 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let c256_i32_937 : BitVec 32 := 256#32
  let c0_i32_936 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c512_i32_935 : BitVec 32 := 512#32
  let v1469 : BitVec 32 := Scalar.subi v582 c512_i32_935
  let v1470 : BitVec 32 := Scalar.maxsi c0_i32_936 v1469
  let v1471 : BitVec 32 := Scalar.minsi c256_i32_937 v1470
  let v1805 : BitVec 32 := Scalar.subi v1471 v1468
  let c1_i32_1195 : BitVec 32 := 1#32
  let v1807 : BitVec 32 := Scalar.divsi v1805 c1_i32_1195
  let v1808 : BitVec 32 := Scalar.muli v1807 c1_i32_1195
  let v1809 : BitVec 32 := Scalar.addi v1468 v1808
  let c1_i32_1197 : BitVec 32 := 1#32
  let arg13 : BitVec 32 := Scf.iv v1809 c1_i32_1197 k3_t186
  let v1828 : Index := Scalar.indexCast arg13
  let c0_1206 : Index := 0#32
  ![v1828.toNat, 0]
def k3_off744 (i : grid3.Coords) (v574 : BitVec 32) (v579 : BitVec 32) (k3_t186 : Fin (k3_t186_loop i v574 v579).trips) : Fin 2 → Nat :=
  let c256_i32_934 : BitVec 32 := 256#32
  let c0_i32_933 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let c256_i32_937 : BitVec 32 := 256#32
  let c0_i32_936 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c512_i32_935 : BitVec 32 := 512#32
  let v1469 : BitVec 32 := Scalar.subi v582 c512_i32_935
  let v1470 : BitVec 32 := Scalar.maxsi c0_i32_936 v1469
  let v1471 : BitVec 32 := Scalar.minsi c256_i32_937 v1470
  let v1805 : BitVec 32 := Scalar.subi v1471 v1468
  let c1_i32_1195 : BitVec 32 := 1#32
  let v1807 : BitVec 32 := Scalar.divsi v1805 c1_i32_1195
  let v1808 : BitVec 32 := Scalar.muli v1807 c1_i32_1195
  let v1809 : BitVec 32 := Scalar.addi v1468 v1808
  let c1_i32_1197 : BitVec 32 := 1#32
  let arg13 : BitVec 32 := Scf.iv v1809 c1_i32_1197 k3_t186
  let v1832 : Index := Scalar.indexCast arg13
  let c16_1207 : Index := 16#32
  ![v1832.toNat, 16]
def k3_off745 (i : grid3.Coords) (v574 : BitVec 32) (v579 : BitVec 32) (k3_t186 : Fin (k3_t186_loop i v574 v579).trips) : Fin 2 → Nat :=
  let c256_i32_934 : BitVec 32 := 256#32
  let c0_i32_933 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let c256_i32_937 : BitVec 32 := 256#32
  let c0_i32_936 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c512_i32_935 : BitVec 32 := 512#32
  let v1469 : BitVec 32 := Scalar.subi v582 c512_i32_935
  let v1470 : BitVec 32 := Scalar.maxsi c0_i32_936 v1469
  let v1471 : BitVec 32 := Scalar.minsi c256_i32_937 v1470
  let v1805 : BitVec 32 := Scalar.subi v1471 v1468
  let c1_i32_1195 : BitVec 32 := 1#32
  let v1807 : BitVec 32 := Scalar.divsi v1805 c1_i32_1195
  let v1808 : BitVec 32 := Scalar.muli v1807 c1_i32_1195
  let v1809 : BitVec 32 := Scalar.addi v1468 v1808
  let c1_i32_1197 : BitVec 32 := 1#32
  let arg13 : BitVec 32 := Scf.iv v1809 c1_i32_1197 k3_t186
  let v1836 : Index := Scalar.indexCast arg13
  let c32_1208 : Index := 32#32
  ![v1836.toNat, 32]
def k3_off746 (i : grid3.Coords) (v574 : BitVec 32) (v579 : BitVec 32) (k3_t186 : Fin (k3_t186_loop i v574 v579).trips) : Fin 2 → Nat :=
  let c256_i32_934 : BitVec 32 := 256#32
  let c0_i32_933 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c512_i32_932 : BitVec 32 := 512#32
  let v1466 : BitVec 32 := Scalar.subi v577 c512_i32_932
  let v1467 : BitVec 32 := Scalar.maxsi c0_i32_933 v1466
  let v1468 : BitVec 32 := Scalar.minsi c256_i32_934 v1467
  let c256_i32_937 : BitVec 32 := 256#32
  let c0_i32_936 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c512_i32_935 : BitVec 32 := 512#32
  let v1469 : BitVec 32 := Scalar.subi v582 c512_i32_935
  let v1470 : BitVec 32 := Scalar.maxsi c0_i32_936 v1469
  let v1471 : BitVec 32 := Scalar.minsi c256_i32_937 v1470
  let v1805 : BitVec 32 := Scalar.subi v1471 v1468
  let c1_i32_1195 : BitVec 32 := 1#32
  let v1807 : BitVec 32 := Scalar.divsi v1805 c1_i32_1195
  let v1808 : BitVec 32 := Scalar.muli v1807 c1_i32_1195
  let v1809 : BitVec 32 := Scalar.addi v1468 v1808
  let c1_i32_1197 : BitVec 32 := 1#32
  let arg13 : BitVec 32 := Scf.iv v1809 c1_i32_1197 k3_t186
  let v1840 : Index := Scalar.indexCast arg13
  let c48_1209 : Index := 48#32
  ![v1840.toNat, 48]
@[reducible] def k3_t187_loop (i : grid3.Coords) (v584 : BitVec 32) (v590 : BitVec 32) : Scf.Loop 32 :=
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let c256_i32_944 : BitVec 32 := 256#32
  let c0_i32_943 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c512_i32_942 : BitVec 32 := 512#32
  let v1478 : BitVec 32 := Scalar.subi v594 c512_i32_942
  let v1479 : BitVec 32 := Scalar.maxsi c0_i32_943 v1478
  let v1480 : BitVec 32 := Scalar.minsi c256_i32_944 v1479
  let v1805 : BitVec 32 := Scalar.subi v1480 v1477
  let c1_i32_1195 : BitVec 32 := 1#32
  let v1807 : BitVec 32 := Scalar.divsi v1805 c1_i32_1195
  let v1808 : BitVec 32 := Scalar.muli v1807 c1_i32_1195
  let v1809 : BitVec 32 := Scalar.addi v1477 v1808
  let c1_i32_1196 : BitVec 32 := 1#32
  ⟨v1477, v1809, c1_i32_1196⟩
def k3_cond94 (i : grid3.Coords) (v584 : BitVec 32) (v590 : BitVec 32) : BitVec 1 :=
  let c256_i32_944 : BitVec 32 := 256#32
  let c0_i32_943 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v592 : BitVec 32 := Scalar.subi v591 v3
  let v593 : BitVec 32 := Scalar.maxsi c0_i32_258 v592
  let v594 : BitVec 32 := Scalar.minsi c1024_i32_259 v593
  let c512_i32_942 : BitVec 32 := 512#32
  let v1478 : BitVec 32 := Scalar.subi v594 c512_i32_942
  let v1479 : BitVec 32 := Scalar.maxsi c0_i32_943 v1478
  let v1480 : BitVec 32 := Scalar.minsi c256_i32_944 v1479
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let v1481 : BitVec 1 := Scalar.cmpi .sgt v1480 v1477
  let v1482 : BitVec 32 := Scalar.extui v1481
  let c0_i32_945 : BitVec 32 := 0#32
  let v1483 : BitVec 1 := Scalar.cmpi .ne v1482 c0_i32_945
  v1483

def k3_off747 (i : grid3.Coords) (v584 : BitVec 32) (v590 : BitVec 32) (k3_t187 : Fin (k3_t187_loop i v584 v590).trips) : Fin 2 → Nat :=
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let c1_i32_1196 : BitVec 32 := 1#32
  let arg13 : BitVec 32 := Scf.iv v1477 c1_i32_1196 k3_t187
  let v1828 : Index := Scalar.indexCast arg13
  let c64 : Index := 64#32
  ![v1828.toNat, 64]
def k3_off748 (i : grid3.Coords) (v584 : BitVec 32) (v590 : BitVec 32) (k3_t187 : Fin (k3_t187_loop i v584 v590).trips) : Fin 2 → Nat :=
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let c1_i32_1196 : BitVec 32 := 1#32
  let arg13 : BitVec 32 := Scf.iv v1477 c1_i32_1196 k3_t187
  let v1832 : Index := Scalar.indexCast arg13
  let c80 : Index := 80#32
  ![v1832.toNat, 80]
def k3_off749 (i : grid3.Coords) (v584 : BitVec 32) (v590 : BitVec 32) (k3_t187 : Fin (k3_t187_loop i v584 v590).trips) : Fin 2 → Nat :=
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let c1_i32_1196 : BitVec 32 := 1#32
  let arg13 : BitVec 32 := Scf.iv v1477 c1_i32_1196 k3_t187
  let v1836 : Index := Scalar.indexCast arg13
  let c96 : Index := 96#32
  ![v1836.toNat, 96]
def k3_off750 (i : grid3.Coords) (v584 : BitVec 32) (v590 : BitVec 32) (k3_t187 : Fin (k3_t187_loop i v584 v590).trips) : Fin 2 → Nat :=
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let c1_i32_1196 : BitVec 32 := 1#32
  let arg13 : BitVec 32 := Scf.iv v1477 c1_i32_1196 k3_t187
  let v1840 : Index := Scalar.indexCast arg13
  let c112 : Index := 112#32
  ![v1840.toNat, 112]
@[reducible] def k3_t188_loop (i : grid3.Coords) (v584 : BitVec 32) (v590 : BitVec 32) : Scf.Loop 32 :=
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let c256_i32_944 : BitVec 32 := 256#32
  let c0_i32_943 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c512_i32_942 : BitVec 32 := 512#32
  let v1478 : BitVec 32 := Scalar.subi v594 c512_i32_942
  let v1479 : BitVec 32 := Scalar.maxsi c0_i32_943 v1478
  let v1480 : BitVec 32 := Scalar.minsi c256_i32_944 v1479
  let v1805 : BitVec 32 := Scalar.subi v1480 v1477
  let c1_i32_1195 : BitVec 32 := 1#32
  let v1807 : BitVec 32 := Scalar.divsi v1805 c1_i32_1195
  let v1808 : BitVec 32 := Scalar.muli v1807 c1_i32_1195
  let v1809 : BitVec 32 := Scalar.addi v1477 v1808
  let v1806 : BitVec 32 := Scalar.addi v1477 v1805
  let c1_i32_1197 : BitVec 32 := 1#32
  ⟨v1809, v1806, c1_i32_1197⟩
def k3_off751 (i : grid3.Coords) (v584 : BitVec 32) (v590 : BitVec 32) (k3_t188 : Fin (k3_t188_loop i v584 v590).trips) : Fin 2 → Nat :=
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let c256_i32_944 : BitVec 32 := 256#32
  let c0_i32_943 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c512_i32_942 : BitVec 32 := 512#32
  let v1478 : BitVec 32 := Scalar.subi v594 c512_i32_942
  let v1479 : BitVec 32 := Scalar.maxsi c0_i32_943 v1478
  let v1480 : BitVec 32 := Scalar.minsi c256_i32_944 v1479
  let v1805 : BitVec 32 := Scalar.subi v1480 v1477
  let c1_i32_1195 : BitVec 32 := 1#32
  let v1807 : BitVec 32 := Scalar.divsi v1805 c1_i32_1195
  let v1808 : BitVec 32 := Scalar.muli v1807 c1_i32_1195
  let v1809 : BitVec 32 := Scalar.addi v1477 v1808
  let c1_i32_1197 : BitVec 32 := 1#32
  let arg13 : BitVec 32 := Scf.iv v1809 c1_i32_1197 k3_t188
  let v1828 : Index := Scalar.indexCast arg13
  let c64 : Index := 64#32
  ![v1828.toNat, 64]
def k3_off752 (i : grid3.Coords) (v584 : BitVec 32) (v590 : BitVec 32) (k3_t188 : Fin (k3_t188_loop i v584 v590).trips) : Fin 2 → Nat :=
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let c256_i32_944 : BitVec 32 := 256#32
  let c0_i32_943 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c512_i32_942 : BitVec 32 := 512#32
  let v1478 : BitVec 32 := Scalar.subi v594 c512_i32_942
  let v1479 : BitVec 32 := Scalar.maxsi c0_i32_943 v1478
  let v1480 : BitVec 32 := Scalar.minsi c256_i32_944 v1479
  let v1805 : BitVec 32 := Scalar.subi v1480 v1477
  let c1_i32_1195 : BitVec 32 := 1#32
  let v1807 : BitVec 32 := Scalar.divsi v1805 c1_i32_1195
  let v1808 : BitVec 32 := Scalar.muli v1807 c1_i32_1195
  let v1809 : BitVec 32 := Scalar.addi v1477 v1808
  let c1_i32_1197 : BitVec 32 := 1#32
  let arg13 : BitVec 32 := Scf.iv v1809 c1_i32_1197 k3_t188
  let v1832 : Index := Scalar.indexCast arg13
  let c80 : Index := 80#32
  ![v1832.toNat, 80]
def k3_off753 (i : grid3.Coords) (v584 : BitVec 32) (v590 : BitVec 32) (k3_t188 : Fin (k3_t188_loop i v584 v590).trips) : Fin 2 → Nat :=
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let c256_i32_944 : BitVec 32 := 256#32
  let c0_i32_943 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c512_i32_942 : BitVec 32 := 512#32
  let v1478 : BitVec 32 := Scalar.subi v594 c512_i32_942
  let v1479 : BitVec 32 := Scalar.maxsi c0_i32_943 v1478
  let v1480 : BitVec 32 := Scalar.minsi c256_i32_944 v1479
  let v1805 : BitVec 32 := Scalar.subi v1480 v1477
  let c1_i32_1195 : BitVec 32 := 1#32
  let v1807 : BitVec 32 := Scalar.divsi v1805 c1_i32_1195
  let v1808 : BitVec 32 := Scalar.muli v1807 c1_i32_1195
  let v1809 : BitVec 32 := Scalar.addi v1477 v1808
  let c1_i32_1197 : BitVec 32 := 1#32
  let arg13 : BitVec 32 := Scf.iv v1809 c1_i32_1197 k3_t188
  let v1836 : Index := Scalar.indexCast arg13
  let c96 : Index := 96#32
  ![v1836.toNat, 96]
def k3_off754 (i : grid3.Coords) (v584 : BitVec 32) (v590 : BitVec 32) (k3_t188 : Fin (k3_t188_loop i v584 v590).trips) : Fin 2 → Nat :=
  let c256_i32_941 : BitVec 32 := 256#32
  let c0_i32_940 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c512_i32_939 : BitVec 32 := 512#32
  let v1475 : BitVec 32 := Scalar.subi v588 c512_i32_939
  let v1476 : BitVec 32 := Scalar.maxsi c0_i32_940 v1475
  let v1477 : BitVec 32 := Scalar.minsi c256_i32_941 v1476
  let c256_i32_944 : BitVec 32 := 256#32
  let c0_i32_943 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c512_i32_942 : BitVec 32 := 512#32
  let v1478 : BitVec 32 := Scalar.subi v594 c512_i32_942
  let v1479 : BitVec 32 := Scalar.maxsi c0_i32_943 v1478
  let v1480 : BitVec 32 := Scalar.minsi c256_i32_944 v1479
  let v1805 : BitVec 32 := Scalar.subi v1480 v1477
  let c1_i32_1195 : BitVec 32 := 1#32
  let v1807 : BitVec 32 := Scalar.divsi v1805 c1_i32_1195
  let v1808 : BitVec 32 := Scalar.muli v1807 c1_i32_1195
  let v1809 : BitVec 32 := Scalar.addi v1477 v1808
  let c1_i32_1197 : BitVec 32 := 1#32
  let arg13 : BitVec 32 := Scf.iv v1809 c1_i32_1197 k3_t188
  let v1840 : Index := Scalar.indexCast arg13
  let c112 : Index := 112#32
  ![v1840.toNat, 112]
@[reducible] def k3_t189_loop (i : grid3.Coords) (v596 : BitVec 32) (v601 : BitVec 32) : Scf.Loop 32 :=
  let c256_i32_948 : BitVec 32 := 256#32
  let c0_i32_947 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let c256_i32_951 : BitVec 32 := 256#32
  let c0_i32_950 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c512_i32_949 : BitVec 32 := 512#32
  let v1487 : BitVec 32 := Scalar.subi v604 c512_i32_949
  let v1488 : BitVec 32 := Scalar.maxsi c0_i32_950 v1487
  let v1489 : BitVec 32 := Scalar.minsi c256_i32_951 v1488
  let v1805 : BitVec 32 := Scalar.subi v1489 v1486
  let c1_i32_1195 : BitVec 32 := 1#32
  let v1807 : BitVec 32 := Scalar.divsi v1805 c1_i32_1195
  let v1808 : BitVec 32 := Scalar.muli v1807 c1_i32_1195
  let v1809 : BitVec 32 := Scalar.addi v1486 v1808
  let c1_i32_1196 : BitVec 32 := 1#32
  ⟨v1486, v1809, c1_i32_1196⟩
def k3_cond95 (i : grid3.Coords) (v596 : BitVec 32) (v601 : BitVec 32) : BitVec 1 :=
  let c256_i32_951 : BitVec 32 := 256#32
  let c0_i32_950 : BitVec 32 := 0#32
  let c1024_i32_263 : BitVec 32 := 1024#32
  let c0_i32_262 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v602 : BitVec 32 := Scalar.subi v601 v3
  let v603 : BitVec 32 := Scalar.maxsi c0_i32_262 v602
  let v604 : BitVec 32 := Scalar.minsi c1024_i32_263 v603
  let c512_i32_949 : BitVec 32 := 512#32
  let v1487 : BitVec 32 := Scalar.subi v604 c512_i32_949
  let v1488 : BitVec 32 := Scalar.maxsi c0_i32_950 v1487
  let v1489 : BitVec 32 := Scalar.minsi c256_i32_951 v1488
  let c256_i32_948 : BitVec 32 := 256#32
  let c0_i32_947 : BitVec 32 := 0#32
  let c1024_i32_261 : BitVec 32 := 1024#32
  let c0_i32_260 : BitVec 32 := 0#32
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let v1490 : BitVec 1 := Scalar.cmpi .sgt v1489 v1486
  let v1491 : BitVec 32 := Scalar.extui v1490
  let c0_i32_952 : BitVec 32 := 0#32
  let v1492 : BitVec 1 := Scalar.cmpi .ne v1491 c0_i32_952
  v1492

def k3_off755 (i : grid3.Coords) (v596 : BitVec 32) (v601 : BitVec 32) (k3_t189 : Fin (k3_t189_loop i v596 v601).trips) : Fin 2 → Nat :=
  let c256_i32_948 : BitVec 32 := 256#32
  let c0_i32_947 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let c1_i32_1196 : BitVec 32 := 1#32
  let arg13 : BitVec 32 := Scf.iv v1486 c1_i32_1196 k3_t189
  let v1828 : Index := Scalar.indexCast arg13
  let c0_1206 : Index := 0#32
  ![v1828.toNat, 0]
def k3_off756 (i : grid3.Coords) (v596 : BitVec 32) (v601 : BitVec 32) (k3_t189 : Fin (k3_t189_loop i v596 v601).trips) : Fin 2 → Nat :=
  let c256_i32_948 : BitVec 32 := 256#32
  let c0_i32_947 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let c1_i32_1196 : BitVec 32 := 1#32
  let arg13 : BitVec 32 := Scf.iv v1486 c1_i32_1196 k3_t189
  let v1832 : Index := Scalar.indexCast arg13
  let c16_1207 : Index := 16#32
  ![v1832.toNat, 16]
def k3_off757 (i : grid3.Coords) (v596 : BitVec 32) (v601 : BitVec 32) (k3_t189 : Fin (k3_t189_loop i v596 v601).trips) : Fin 2 → Nat :=
  let c256_i32_948 : BitVec 32 := 256#32
  let c0_i32_947 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let c1_i32_1196 : BitVec 32 := 1#32
  let arg13 : BitVec 32 := Scf.iv v1486 c1_i32_1196 k3_t189
  let v1836 : Index := Scalar.indexCast arg13
  let c32_1208 : Index := 32#32
  ![v1836.toNat, 32]
def k3_off758 (i : grid3.Coords) (v596 : BitVec 32) (v601 : BitVec 32) (k3_t189 : Fin (k3_t189_loop i v596 v601).trips) : Fin 2 → Nat :=
  let c256_i32_948 : BitVec 32 := 256#32
  let c0_i32_947 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let c1_i32_1196 : BitVec 32 := 1#32
  let arg13 : BitVec 32 := Scf.iv v1486 c1_i32_1196 k3_t189
  let v1840 : Index := Scalar.indexCast arg13
  let c48_1209 : Index := 48#32
  ![v1840.toNat, 48]
@[reducible] def k3_t190_loop (i : grid3.Coords) (v596 : BitVec 32) (v601 : BitVec 32) : Scf.Loop 32 :=
  let c256_i32_948 : BitVec 32 := 256#32
  let c0_i32_947 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let c256_i32_951 : BitVec 32 := 256#32
  let c0_i32_950 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c512_i32_949 : BitVec 32 := 512#32
  let v1487 : BitVec 32 := Scalar.subi v604 c512_i32_949
  let v1488 : BitVec 32 := Scalar.maxsi c0_i32_950 v1487
  let v1489 : BitVec 32 := Scalar.minsi c256_i32_951 v1488
  let v1805 : BitVec 32 := Scalar.subi v1489 v1486
  let c1_i32_1195 : BitVec 32 := 1#32
  let v1807 : BitVec 32 := Scalar.divsi v1805 c1_i32_1195
  let v1808 : BitVec 32 := Scalar.muli v1807 c1_i32_1195
  let v1809 : BitVec 32 := Scalar.addi v1486 v1808
  let v1806 : BitVec 32 := Scalar.addi v1486 v1805
  let c1_i32_1197 : BitVec 32 := 1#32
  ⟨v1809, v1806, c1_i32_1197⟩
def k3_off759 (i : grid3.Coords) (v596 : BitVec 32) (v601 : BitVec 32) (k3_t190 : Fin (k3_t190_loop i v596 v601).trips) : Fin 2 → Nat :=
  let c256_i32_948 : BitVec 32 := 256#32
  let c0_i32_947 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let c256_i32_951 : BitVec 32 := 256#32
  let c0_i32_950 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c512_i32_949 : BitVec 32 := 512#32
  let v1487 : BitVec 32 := Scalar.subi v604 c512_i32_949
  let v1488 : BitVec 32 := Scalar.maxsi c0_i32_950 v1487
  let v1489 : BitVec 32 := Scalar.minsi c256_i32_951 v1488
  let v1805 : BitVec 32 := Scalar.subi v1489 v1486
  let c1_i32_1195 : BitVec 32 := 1#32
  let v1807 : BitVec 32 := Scalar.divsi v1805 c1_i32_1195
  let v1808 : BitVec 32 := Scalar.muli v1807 c1_i32_1195
  let v1809 : BitVec 32 := Scalar.addi v1486 v1808
  let c1_i32_1197 : BitVec 32 := 1#32
  let arg13 : BitVec 32 := Scf.iv v1809 c1_i32_1197 k3_t190
  let v1828 : Index := Scalar.indexCast arg13
  let c0_1206 : Index := 0#32
  ![v1828.toNat, 0]
def k3_off760 (i : grid3.Coords) (v596 : BitVec 32) (v601 : BitVec 32) (k3_t190 : Fin (k3_t190_loop i v596 v601).trips) : Fin 2 → Nat :=
  let c256_i32_948 : BitVec 32 := 256#32
  let c0_i32_947 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let c256_i32_951 : BitVec 32 := 256#32
  let c0_i32_950 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c512_i32_949 : BitVec 32 := 512#32
  let v1487 : BitVec 32 := Scalar.subi v604 c512_i32_949
  let v1488 : BitVec 32 := Scalar.maxsi c0_i32_950 v1487
  let v1489 : BitVec 32 := Scalar.minsi c256_i32_951 v1488
  let v1805 : BitVec 32 := Scalar.subi v1489 v1486
  let c1_i32_1195 : BitVec 32 := 1#32
  let v1807 : BitVec 32 := Scalar.divsi v1805 c1_i32_1195
  let v1808 : BitVec 32 := Scalar.muli v1807 c1_i32_1195
  let v1809 : BitVec 32 := Scalar.addi v1486 v1808
  let c1_i32_1197 : BitVec 32 := 1#32
  let arg13 : BitVec 32 := Scf.iv v1809 c1_i32_1197 k3_t190
  let v1832 : Index := Scalar.indexCast arg13
  let c16_1207 : Index := 16#32
  ![v1832.toNat, 16]
def k3_off761 (i : grid3.Coords) (v596 : BitVec 32) (v601 : BitVec 32) (k3_t190 : Fin (k3_t190_loop i v596 v601).trips) : Fin 2 → Nat :=
  let c256_i32_948 : BitVec 32 := 256#32
  let c0_i32_947 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let c256_i32_951 : BitVec 32 := 256#32
  let c0_i32_950 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c512_i32_949 : BitVec 32 := 512#32
  let v1487 : BitVec 32 := Scalar.subi v604 c512_i32_949
  let v1488 : BitVec 32 := Scalar.maxsi c0_i32_950 v1487
  let v1489 : BitVec 32 := Scalar.minsi c256_i32_951 v1488
  let v1805 : BitVec 32 := Scalar.subi v1489 v1486
  let c1_i32_1195 : BitVec 32 := 1#32
  let v1807 : BitVec 32 := Scalar.divsi v1805 c1_i32_1195
  let v1808 : BitVec 32 := Scalar.muli v1807 c1_i32_1195
  let v1809 : BitVec 32 := Scalar.addi v1486 v1808
  let c1_i32_1197 : BitVec 32 := 1#32
  let arg13 : BitVec 32 := Scf.iv v1809 c1_i32_1197 k3_t190
  let v1836 : Index := Scalar.indexCast arg13
  let c32_1208 : Index := 32#32
  ![v1836.toNat, 32]
def k3_off762 (i : grid3.Coords) (v596 : BitVec 32) (v601 : BitVec 32) (k3_t190 : Fin (k3_t190_loop i v596 v601).trips) : Fin 2 → Nat :=
  let c256_i32_948 : BitVec 32 := 256#32
  let c0_i32_947 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c512_i32_946 : BitVec 32 := 512#32
  let v1484 : BitVec 32 := Scalar.subi v599 c512_i32_946
  let v1485 : BitVec 32 := Scalar.maxsi c0_i32_947 v1484
  let v1486 : BitVec 32 := Scalar.minsi c256_i32_948 v1485
  let c256_i32_951 : BitVec 32 := 256#32
  let c0_i32_950 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c512_i32_949 : BitVec 32 := 512#32
  let v1487 : BitVec 32 := Scalar.subi v604 c512_i32_949
  let v1488 : BitVec 32 := Scalar.maxsi c0_i32_950 v1487
  let v1489 : BitVec 32 := Scalar.minsi c256_i32_951 v1488
  let v1805 : BitVec 32 := Scalar.subi v1489 v1486
  let c1_i32_1195 : BitVec 32 := 1#32
  let v1807 : BitVec 32 := Scalar.divsi v1805 c1_i32_1195
  let v1808 : BitVec 32 := Scalar.muli v1807 c1_i32_1195
  let v1809 : BitVec 32 := Scalar.addi v1486 v1808
  let c1_i32_1197 : BitVec 32 := 1#32
  let arg13 : BitVec 32 := Scf.iv v1809 c1_i32_1197 k3_t190
  let v1840 : Index := Scalar.indexCast arg13
  let c48_1209 : Index := 48#32
  ![v1840.toNat, 48]
@[reducible] def k3_t191_loop (i : grid3.Coords) (v606 : BitVec 32) (v612 : BitVec 32) : Scf.Loop 32 :=
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let c256_i32_958 : BitVec 32 := 256#32
  let c0_i32_957 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c512_i32_956 : BitVec 32 := 512#32
  let v1496 : BitVec 32 := Scalar.subi v616 c512_i32_956
  let v1497 : BitVec 32 := Scalar.maxsi c0_i32_957 v1496
  let v1498 : BitVec 32 := Scalar.minsi c256_i32_958 v1497
  let v1805 : BitVec 32 := Scalar.subi v1498 v1495
  let c1_i32_1195 : BitVec 32 := 1#32
  let v1807 : BitVec 32 := Scalar.divsi v1805 c1_i32_1195
  let v1808 : BitVec 32 := Scalar.muli v1807 c1_i32_1195
  let v1809 : BitVec 32 := Scalar.addi v1495 v1808
  let c1_i32_1196 : BitVec 32 := 1#32
  ⟨v1495, v1809, c1_i32_1196⟩
def k3_cond96 (i : grid3.Coords) (v606 : BitVec 32) (v612 : BitVec 32) : BitVec 1 :=
  let c256_i32_958 : BitVec 32 := 256#32
  let c0_i32_957 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v614 : BitVec 32 := Scalar.subi v613 v3
  let v615 : BitVec 32 := Scalar.maxsi c0_i32_268 v614
  let v616 : BitVec 32 := Scalar.minsi c1024_i32_269 v615
  let c512_i32_956 : BitVec 32 := 512#32
  let v1496 : BitVec 32 := Scalar.subi v616 c512_i32_956
  let v1497 : BitVec 32 := Scalar.maxsi c0_i32_957 v1496
  let v1498 : BitVec 32 := Scalar.minsi c256_i32_958 v1497
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let v1499 : BitVec 1 := Scalar.cmpi .sgt v1498 v1495
  let v1500 : BitVec 32 := Scalar.extui v1499
  let c0_i32_959 : BitVec 32 := 0#32
  let v1501 : BitVec 1 := Scalar.cmpi .ne v1500 c0_i32_959
  v1501

def k3_off763 (i : grid3.Coords) (v606 : BitVec 32) (v612 : BitVec 32) (k3_t191 : Fin (k3_t191_loop i v606 v612).trips) : Fin 2 → Nat :=
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let c1_i32_1196 : BitVec 32 := 1#32
  let arg13 : BitVec 32 := Scf.iv v1495 c1_i32_1196 k3_t191
  let v1828 : Index := Scalar.indexCast arg13
  let c64 : Index := 64#32
  ![v1828.toNat, 64]
def k3_off764 (i : grid3.Coords) (v606 : BitVec 32) (v612 : BitVec 32) (k3_t191 : Fin (k3_t191_loop i v606 v612).trips) : Fin 2 → Nat :=
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let c1_i32_1196 : BitVec 32 := 1#32
  let arg13 : BitVec 32 := Scf.iv v1495 c1_i32_1196 k3_t191
  let v1832 : Index := Scalar.indexCast arg13
  let c80 : Index := 80#32
  ![v1832.toNat, 80]
def k3_off765 (i : grid3.Coords) (v606 : BitVec 32) (v612 : BitVec 32) (k3_t191 : Fin (k3_t191_loop i v606 v612).trips) : Fin 2 → Nat :=
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let c1_i32_1196 : BitVec 32 := 1#32
  let arg13 : BitVec 32 := Scf.iv v1495 c1_i32_1196 k3_t191
  let v1836 : Index := Scalar.indexCast arg13
  let c96 : Index := 96#32
  ![v1836.toNat, 96]
def k3_off766 (i : grid3.Coords) (v606 : BitVec 32) (v612 : BitVec 32) (k3_t191 : Fin (k3_t191_loop i v606 v612).trips) : Fin 2 → Nat :=
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let c1_i32_1196 : BitVec 32 := 1#32
  let arg13 : BitVec 32 := Scf.iv v1495 c1_i32_1196 k3_t191
  let v1840 : Index := Scalar.indexCast arg13
  let c112 : Index := 112#32
  ![v1840.toNat, 112]
@[reducible] def k3_t192_loop (i : grid3.Coords) (v606 : BitVec 32) (v612 : BitVec 32) : Scf.Loop 32 :=
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let c256_i32_958 : BitVec 32 := 256#32
  let c0_i32_957 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c512_i32_956 : BitVec 32 := 512#32
  let v1496 : BitVec 32 := Scalar.subi v616 c512_i32_956
  let v1497 : BitVec 32 := Scalar.maxsi c0_i32_957 v1496
  let v1498 : BitVec 32 := Scalar.minsi c256_i32_958 v1497
  let v1805 : BitVec 32 := Scalar.subi v1498 v1495
  let c1_i32_1195 : BitVec 32 := 1#32
  let v1807 : BitVec 32 := Scalar.divsi v1805 c1_i32_1195
  let v1808 : BitVec 32 := Scalar.muli v1807 c1_i32_1195
  let v1809 : BitVec 32 := Scalar.addi v1495 v1808
  let v1806 : BitVec 32 := Scalar.addi v1495 v1805
  let c1_i32_1197 : BitVec 32 := 1#32
  ⟨v1809, v1806, c1_i32_1197⟩
def k3_off767 (i : grid3.Coords) (v606 : BitVec 32) (v612 : BitVec 32) (k3_t192 : Fin (k3_t192_loop i v606 v612).trips) : Fin 2 → Nat :=
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let c256_i32_958 : BitVec 32 := 256#32
  let c0_i32_957 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c512_i32_956 : BitVec 32 := 512#32
  let v1496 : BitVec 32 := Scalar.subi v616 c512_i32_956
  let v1497 : BitVec 32 := Scalar.maxsi c0_i32_957 v1496
  let v1498 : BitVec 32 := Scalar.minsi c256_i32_958 v1497
  let v1805 : BitVec 32 := Scalar.subi v1498 v1495
  let c1_i32_1195 : BitVec 32 := 1#32
  let v1807 : BitVec 32 := Scalar.divsi v1805 c1_i32_1195
  let v1808 : BitVec 32 := Scalar.muli v1807 c1_i32_1195
  let v1809 : BitVec 32 := Scalar.addi v1495 v1808
  let c1_i32_1197 : BitVec 32 := 1#32
  let arg13 : BitVec 32 := Scf.iv v1809 c1_i32_1197 k3_t192
  let v1828 : Index := Scalar.indexCast arg13
  let c64 : Index := 64#32
  ![v1828.toNat, 64]
def k3_off768 (i : grid3.Coords) (v606 : BitVec 32) (v612 : BitVec 32) (k3_t192 : Fin (k3_t192_loop i v606 v612).trips) : Fin 2 → Nat :=
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let c256_i32_958 : BitVec 32 := 256#32
  let c0_i32_957 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c512_i32_956 : BitVec 32 := 512#32
  let v1496 : BitVec 32 := Scalar.subi v616 c512_i32_956
  let v1497 : BitVec 32 := Scalar.maxsi c0_i32_957 v1496
  let v1498 : BitVec 32 := Scalar.minsi c256_i32_958 v1497
  let v1805 : BitVec 32 := Scalar.subi v1498 v1495
  let c1_i32_1195 : BitVec 32 := 1#32
  let v1807 : BitVec 32 := Scalar.divsi v1805 c1_i32_1195
  let v1808 : BitVec 32 := Scalar.muli v1807 c1_i32_1195
  let v1809 : BitVec 32 := Scalar.addi v1495 v1808
  let c1_i32_1197 : BitVec 32 := 1#32
  let arg13 : BitVec 32 := Scf.iv v1809 c1_i32_1197 k3_t192
  let v1832 : Index := Scalar.indexCast arg13
  let c80 : Index := 80#32
  ![v1832.toNat, 80]
def k3_off769 (i : grid3.Coords) (v606 : BitVec 32) (v612 : BitVec 32) (k3_t192 : Fin (k3_t192_loop i v606 v612).trips) : Fin 2 → Nat :=
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let c256_i32_958 : BitVec 32 := 256#32
  let c0_i32_957 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c512_i32_956 : BitVec 32 := 512#32
  let v1496 : BitVec 32 := Scalar.subi v616 c512_i32_956
  let v1497 : BitVec 32 := Scalar.maxsi c0_i32_957 v1496
  let v1498 : BitVec 32 := Scalar.minsi c256_i32_958 v1497
  let v1805 : BitVec 32 := Scalar.subi v1498 v1495
  let c1_i32_1195 : BitVec 32 := 1#32
  let v1807 : BitVec 32 := Scalar.divsi v1805 c1_i32_1195
  let v1808 : BitVec 32 := Scalar.muli v1807 c1_i32_1195
  let v1809 : BitVec 32 := Scalar.addi v1495 v1808
  let c1_i32_1197 : BitVec 32 := 1#32
  let arg13 : BitVec 32 := Scf.iv v1809 c1_i32_1197 k3_t192
  let v1836 : Index := Scalar.indexCast arg13
  let c96 : Index := 96#32
  ![v1836.toNat, 96]
def k3_off770 (i : grid3.Coords) (v606 : BitVec 32) (v612 : BitVec 32) (k3_t192 : Fin (k3_t192_loop i v606 v612).trips) : Fin 2 → Nat :=
  let c256_i32_955 : BitVec 32 := 256#32
  let c0_i32_954 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c512_i32_953 : BitVec 32 := 512#32
  let v1493 : BitVec 32 := Scalar.subi v610 c512_i32_953
  let v1494 : BitVec 32 := Scalar.maxsi c0_i32_954 v1493
  let v1495 : BitVec 32 := Scalar.minsi c256_i32_955 v1494
  let c256_i32_958 : BitVec 32 := 256#32
  let c0_i32_957 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c512_i32_956 : BitVec 32 := 512#32
  let v1496 : BitVec 32 := Scalar.subi v616 c512_i32_956
  let v1497 : BitVec 32 := Scalar.maxsi c0_i32_957 v1496
  let v1498 : BitVec 32 := Scalar.minsi c256_i32_958 v1497
  let v1805 : BitVec 32 := Scalar.subi v1498 v1495
  let c1_i32_1195 : BitVec 32 := 1#32
  let v1807 : BitVec 32 := Scalar.divsi v1805 c1_i32_1195
  let v1808 : BitVec 32 := Scalar.muli v1807 c1_i32_1195
  let v1809 : BitVec 32 := Scalar.addi v1495 v1808
  let c1_i32_1197 : BitVec 32 := 1#32
  let arg13 : BitVec 32 := Scf.iv v1809 c1_i32_1197 k3_t192
  let v1840 : Index := Scalar.indexCast arg13
  let c112 : Index := 112#32
  ![v1840.toNat, 112]
@[reducible] def k3_t193_loop (i : grid3.Coords) (v266 : BitVec 32) (v271 : BitVec 32) : Scf.Loop 32 :=
  let c256_i32_965 : BitVec 32 := 256#32
  let c0_i32_964 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let c256_i32_968 : BitVec 32 := 256#32
  let c0_i32_967 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c768_i32_966 : BitVec 32 := 768#32
  let v1508 : BitVec 32 := Scalar.subi v274 c768_i32_966
  let v1509 : BitVec 32 := Scalar.maxsi c0_i32_967 v1508
  let v1510 : BitVec 32 := Scalar.minsi c256_i32_968 v1509
  let v1805 : BitVec 32 := Scalar.subi v1510 v1507
  let c1_i32_1195 : BitVec 32 := 1#32
  let v1807 : BitVec 32 := Scalar.divsi v1805 c1_i32_1195
  let v1808 : BitVec 32 := Scalar.muli v1807 c1_i32_1195
  let v1809 : BitVec 32 := Scalar.addi v1507 v1808
  let c1_i32_1196 : BitVec 32 := 1#32
  ⟨v1507, v1809, c1_i32_1196⟩
def k3_cond97 (i : grid3.Coords) (v266 : BitVec 32) (v271 : BitVec 32) : BitVec 1 :=
  let c256_i32_968 : BitVec 32 := 256#32
  let c0_i32_967 : BitVec 32 := 0#32
  let c1024_i32_114 : BitVec 32 := 1024#32
  let c0_i32_113 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v272 : BitVec 32 := Scalar.subi v271 v3
  let v273 : BitVec 32 := Scalar.maxsi c0_i32_113 v272
  let v274 : BitVec 32 := Scalar.minsi c1024_i32_114 v273
  let c768_i32_966 : BitVec 32 := 768#32
  let v1508 : BitVec 32 := Scalar.subi v274 c768_i32_966
  let v1509 : BitVec 32 := Scalar.maxsi c0_i32_967 v1508
  let v1510 : BitVec 32 := Scalar.minsi c256_i32_968 v1509
  let c256_i32_965 : BitVec 32 := 256#32
  let c0_i32_964 : BitVec 32 := 0#32
  let c1024_i32_112 : BitVec 32 := 1024#32
  let c0_i32_111 : BitVec 32 := 0#32
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let v1511 : BitVec 1 := Scalar.cmpi .sgt v1510 v1507
  let v1512 : BitVec 32 := Scalar.extui v1511
  let c0_i32_969 : BitVec 32 := 0#32
  let v1513 : BitVec 1 := Scalar.cmpi .ne v1512 c0_i32_969
  v1513

def k3_off771 (i : grid3.Coords) (v266 : BitVec 32) (v271 : BitVec 32) (k3_t193 : Fin (k3_t193_loop i v266 v271).trips) : Fin 2 → Nat :=
  let c256_i32_965 : BitVec 32 := 256#32
  let c0_i32_964 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let c1_i32_1196 : BitVec 32 := 1#32
  let arg13 : BitVec 32 := Scf.iv v1507 c1_i32_1196 k3_t193
  let v1828 : Index := Scalar.indexCast arg13
  let c0_1206 : Index := 0#32
  ![v1828.toNat, 0]
def k3_off772 (i : grid3.Coords) (v266 : BitVec 32) (v271 : BitVec 32) (k3_t193 : Fin (k3_t193_loop i v266 v271).trips) : Fin 2 → Nat :=
  let c256_i32_965 : BitVec 32 := 256#32
  let c0_i32_964 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let c1_i32_1196 : BitVec 32 := 1#32
  let arg13 : BitVec 32 := Scf.iv v1507 c1_i32_1196 k3_t193
  let v1832 : Index := Scalar.indexCast arg13
  let c16_1207 : Index := 16#32
  ![v1832.toNat, 16]
def k3_off773 (i : grid3.Coords) (v266 : BitVec 32) (v271 : BitVec 32) (k3_t193 : Fin (k3_t193_loop i v266 v271).trips) : Fin 2 → Nat :=
  let c256_i32_965 : BitVec 32 := 256#32
  let c0_i32_964 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let c1_i32_1196 : BitVec 32 := 1#32
  let arg13 : BitVec 32 := Scf.iv v1507 c1_i32_1196 k3_t193
  let v1836 : Index := Scalar.indexCast arg13
  let c32_1208 : Index := 32#32
  ![v1836.toNat, 32]
def k3_off774 (i : grid3.Coords) (v266 : BitVec 32) (v271 : BitVec 32) (k3_t193 : Fin (k3_t193_loop i v266 v271).trips) : Fin 2 → Nat :=
  let c256_i32_965 : BitVec 32 := 256#32
  let c0_i32_964 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let c1_i32_1196 : BitVec 32 := 1#32
  let arg13 : BitVec 32 := Scf.iv v1507 c1_i32_1196 k3_t193
  let v1840 : Index := Scalar.indexCast arg13
  let c48_1209 : Index := 48#32
  ![v1840.toNat, 48]
@[reducible] def k3_t194_loop (i : grid3.Coords) (v266 : BitVec 32) (v271 : BitVec 32) : Scf.Loop 32 :=
  let c256_i32_965 : BitVec 32 := 256#32
  let c0_i32_964 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let c256_i32_968 : BitVec 32 := 256#32
  let c0_i32_967 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c768_i32_966 : BitVec 32 := 768#32
  let v1508 : BitVec 32 := Scalar.subi v274 c768_i32_966
  let v1509 : BitVec 32 := Scalar.maxsi c0_i32_967 v1508
  let v1510 : BitVec 32 := Scalar.minsi c256_i32_968 v1509
  let v1805 : BitVec 32 := Scalar.subi v1510 v1507
  let c1_i32_1195 : BitVec 32 := 1#32
  let v1807 : BitVec 32 := Scalar.divsi v1805 c1_i32_1195
  let v1808 : BitVec 32 := Scalar.muli v1807 c1_i32_1195
  let v1809 : BitVec 32 := Scalar.addi v1507 v1808
  let v1806 : BitVec 32 := Scalar.addi v1507 v1805
  let c1_i32_1197 : BitVec 32 := 1#32
  ⟨v1809, v1806, c1_i32_1197⟩
def k3_off775 (i : grid3.Coords) (v266 : BitVec 32) (v271 : BitVec 32) (k3_t194 : Fin (k3_t194_loop i v266 v271).trips) : Fin 2 → Nat :=
  let c256_i32_965 : BitVec 32 := 256#32
  let c0_i32_964 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let c256_i32_968 : BitVec 32 := 256#32
  let c0_i32_967 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c768_i32_966 : BitVec 32 := 768#32
  let v1508 : BitVec 32 := Scalar.subi v274 c768_i32_966
  let v1509 : BitVec 32 := Scalar.maxsi c0_i32_967 v1508
  let v1510 : BitVec 32 := Scalar.minsi c256_i32_968 v1509
  let v1805 : BitVec 32 := Scalar.subi v1510 v1507
  let c1_i32_1195 : BitVec 32 := 1#32
  let v1807 : BitVec 32 := Scalar.divsi v1805 c1_i32_1195
  let v1808 : BitVec 32 := Scalar.muli v1807 c1_i32_1195
  let v1809 : BitVec 32 := Scalar.addi v1507 v1808
  let c1_i32_1197 : BitVec 32 := 1#32
  let arg13 : BitVec 32 := Scf.iv v1809 c1_i32_1197 k3_t194
  let v1828 : Index := Scalar.indexCast arg13
  let c0_1206 : Index := 0#32
  ![v1828.toNat, 0]
def k3_off776 (i : grid3.Coords) (v266 : BitVec 32) (v271 : BitVec 32) (k3_t194 : Fin (k3_t194_loop i v266 v271).trips) : Fin 2 → Nat :=
  let c256_i32_965 : BitVec 32 := 256#32
  let c0_i32_964 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let c256_i32_968 : BitVec 32 := 256#32
  let c0_i32_967 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c768_i32_966 : BitVec 32 := 768#32
  let v1508 : BitVec 32 := Scalar.subi v274 c768_i32_966
  let v1509 : BitVec 32 := Scalar.maxsi c0_i32_967 v1508
  let v1510 : BitVec 32 := Scalar.minsi c256_i32_968 v1509
  let v1805 : BitVec 32 := Scalar.subi v1510 v1507
  let c1_i32_1195 : BitVec 32 := 1#32
  let v1807 : BitVec 32 := Scalar.divsi v1805 c1_i32_1195
  let v1808 : BitVec 32 := Scalar.muli v1807 c1_i32_1195
  let v1809 : BitVec 32 := Scalar.addi v1507 v1808
  let c1_i32_1197 : BitVec 32 := 1#32
  let arg13 : BitVec 32 := Scf.iv v1809 c1_i32_1197 k3_t194
  let v1832 : Index := Scalar.indexCast arg13
  let c16_1207 : Index := 16#32
  ![v1832.toNat, 16]
def k3_off777 (i : grid3.Coords) (v266 : BitVec 32) (v271 : BitVec 32) (k3_t194 : Fin (k3_t194_loop i v266 v271).trips) : Fin 2 → Nat :=
  let c256_i32_965 : BitVec 32 := 256#32
  let c0_i32_964 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let c256_i32_968 : BitVec 32 := 256#32
  let c0_i32_967 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c768_i32_966 : BitVec 32 := 768#32
  let v1508 : BitVec 32 := Scalar.subi v274 c768_i32_966
  let v1509 : BitVec 32 := Scalar.maxsi c0_i32_967 v1508
  let v1510 : BitVec 32 := Scalar.minsi c256_i32_968 v1509
  let v1805 : BitVec 32 := Scalar.subi v1510 v1507
  let c1_i32_1195 : BitVec 32 := 1#32
  let v1807 : BitVec 32 := Scalar.divsi v1805 c1_i32_1195
  let v1808 : BitVec 32 := Scalar.muli v1807 c1_i32_1195
  let v1809 : BitVec 32 := Scalar.addi v1507 v1808
  let c1_i32_1197 : BitVec 32 := 1#32
  let arg13 : BitVec 32 := Scf.iv v1809 c1_i32_1197 k3_t194
  let v1836 : Index := Scalar.indexCast arg13
  let c32_1208 : Index := 32#32
  ![v1836.toNat, 32]
def k3_off778 (i : grid3.Coords) (v266 : BitVec 32) (v271 : BitVec 32) (k3_t194 : Fin (k3_t194_loop i v266 v271).trips) : Fin 2 → Nat :=
  let c256_i32_965 : BitVec 32 := 256#32
  let c0_i32_964 : BitVec 32 := 0#32
  let c1024_i32_112 : BitVec 32 := 1024#32
  let c0_i32_111 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v267 : BitVec 32 := Scalar.subi v266 v3
  let v268 : BitVec 32 := Scalar.maxsi c0_i32_111 v267
  let v269 : BitVec 32 := Scalar.minsi c1024_i32_112 v268
  let c768_i32_963 : BitVec 32 := 768#32
  let v1505 : BitVec 32 := Scalar.subi v269 c768_i32_963
  let v1506 : BitVec 32 := Scalar.maxsi c0_i32_964 v1505
  let v1507 : BitVec 32 := Scalar.minsi c256_i32_965 v1506
  let c256_i32_968 : BitVec 32 := 256#32
  let c0_i32_967 : BitVec 32 := 0#32
  let c1024_i32_114 : BitVec 32 := 1024#32
  let c0_i32_113 : BitVec 32 := 0#32
  let v272 : BitVec 32 := Scalar.subi v271 v3
  let v273 : BitVec 32 := Scalar.maxsi c0_i32_113 v272
  let v274 : BitVec 32 := Scalar.minsi c1024_i32_114 v273
  let c768_i32_966 : BitVec 32 := 768#32
  let v1508 : BitVec 32 := Scalar.subi v274 c768_i32_966
  let v1509 : BitVec 32 := Scalar.maxsi c0_i32_967 v1508
  let v1510 : BitVec 32 := Scalar.minsi c256_i32_968 v1509
  let v1805 : BitVec 32 := Scalar.subi v1510 v1507
  let c1_i32_1195 : BitVec 32 := 1#32
  let v1807 : BitVec 32 := Scalar.divsi v1805 c1_i32_1195
  let v1808 : BitVec 32 := Scalar.muli v1807 c1_i32_1195
  let v1809 : BitVec 32 := Scalar.addi v1507 v1808
  let c1_i32_1197 : BitVec 32 := 1#32
  let arg13 : BitVec 32 := Scf.iv v1809 c1_i32_1197 k3_t194
  let v1840 : Index := Scalar.indexCast arg13
  let c48_1209 : Index := 48#32
  ![v1840.toNat, 48]

def k3_chk1_0 (i : grid3.Coords) (v266 : BitVec 32) (v271 : BitVec 32) : Prop :=
  (∀ (k3_h1 : k3_cond1 i v266 v271 = 1#1), (k3_t1_loop i v266 v271).OK) ∧
  (∀ k3_t1 : Fin (k3_t1_loop i v266 v271).trips, ∀ (k3_h1 : k3_cond1 i v266 v271 = 1#1), ∀ a, (k3_off2 i v266 v271 k3_t1) a + S1x16.size a ≤ S256x128.size a) ∧
  (∀ k3_t1 : Fin (k3_t1_loop i v266 v271).trips, ∀ (k3_h1 : k3_cond1 i v266 v271 = 1#1), ∀ a, (k3_off3 i v266 v271 k3_t1) a + S1x16.size a ≤ S256x128.size a) ∧
  (∀ k3_t1 : Fin (k3_t1_loop i v266 v271).trips, ∀ (k3_h1 : k3_cond1 i v266 v271 = 1#1), ∀ a, (k3_off4 i v266 v271 k3_t1) a + S1x16.size a ≤ S256x128.size a) ∧
  (∀ k3_t1 : Fin (k3_t1_loop i v266 v271).trips, ∀ (k3_h1 : k3_cond1 i v266 v271 = 1#1), ∀ a, (k3_off5 i v266 v271 k3_t1) a + S1x16.size a ≤ S256x128.size a) ∧
  (∀ (k3_h1 : k3_cond1 i v266 v271 = 1#1), (k3_t2_loop i v266 v271).OK) ∧
  (∀ k3_t2 : Fin (k3_t2_loop i v266 v271).trips, ∀ (k3_h1 : k3_cond1 i v266 v271 = 1#1), ∀ a, (k3_off6 i v266 v271 k3_t2) a + S1x16.size a ≤ S256x128.size a) ∧
  (∀ k3_t2 : Fin (k3_t2_loop i v266 v271).trips, ∀ (k3_h1 : k3_cond1 i v266 v271 = 1#1), ∀ a, (k3_off7 i v266 v271 k3_t2) a + S1x16.size a ≤ S256x128.size a) ∧
  (∀ k3_t2 : Fin (k3_t2_loop i v266 v271).trips, ∀ (k3_h1 : k3_cond1 i v266 v271 = 1#1), ∀ a, (k3_off8 i v266 v271 k3_t2) a + S1x16.size a ≤ S256x128.size a) ∧
  (∀ k3_t2 : Fin (k3_t2_loop i v266 v271).trips, ∀ (k3_h1 : k3_cond1 i v266 v271 = 1#1), ∀ a, (k3_off9 i v266 v271 k3_t2) a + S1x16.size a ≤ S256x128.size a) ∧
  (∀ (k3_h33 : k3_cond33 i v266 v271 = 1#1), (k3_t65_loop i v266 v271).OK) ∧
  (∀ k3_t65 : Fin (k3_t65_loop i v266 v271).trips, ∀ (k3_h33 : k3_cond33 i v266 v271 = 1#1), ∀ a, (k3_off259 i v266 v271 k3_t65) a + S1x16.size a ≤ S256x128.size a) ∧
  (∀ k3_t65 : Fin (k3_t65_loop i v266 v271).trips, ∀ (k3_h33 : k3_cond33 i v266 v271 = 1#1), ∀ a, (k3_off260 i v266 v271 k3_t65) a + S1x16.size a ≤ S256x128.size a) ∧
  (∀ k3_t65 : Fin (k3_t65_loop i v266 v271).trips, ∀ (k3_h33 : k3_cond33 i v266 v271 = 1#1), ∀ a, (k3_off261 i v266 v271 k3_t65) a + S1x16.size a ≤ S256x128.size a) ∧
  (∀ k3_t65 : Fin (k3_t65_loop i v266 v271).trips, ∀ (k3_h33 : k3_cond33 i v266 v271 = 1#1), ∀ a, (k3_off262 i v266 v271 k3_t65) a + S1x16.size a ≤ S256x128.size a) ∧
  (∀ (k3_h33 : k3_cond33 i v266 v271 = 1#1), (k3_t66_loop i v266 v271).OK) ∧
  (∀ k3_t66 : Fin (k3_t66_loop i v266 v271).trips, ∀ (k3_h33 : k3_cond33 i v266 v271 = 1#1), ∀ a, (k3_off263 i v266 v271 k3_t66) a + S1x16.size a ≤ S256x128.size a) ∧
  (∀ k3_t66 : Fin (k3_t66_loop i v266 v271).trips, ∀ (k3_h33 : k3_cond33 i v266 v271 = 1#1), ∀ a, (k3_off264 i v266 v271 k3_t66) a + S1x16.size a ≤ S256x128.size a) ∧
  (∀ k3_t66 : Fin (k3_t66_loop i v266 v271).trips, ∀ (k3_h33 : k3_cond33 i v266 v271 = 1#1), ∀ a, (k3_off265 i v266 v271 k3_t66) a + S1x16.size a ≤ S256x128.size a) ∧
  (∀ k3_t66 : Fin (k3_t66_loop i v266 v271).trips, ∀ (k3_h33 : k3_cond33 i v266 v271 = 1#1), ∀ a, (k3_off266 i v266 v271 k3_t66) a + S1x16.size a ≤ S256x128.size a) ∧
  (∀ (k3_h65 : k3_cond65 i v266 v271 = 1#1), (k3_t129_loop i v266 v271).OK) ∧
  (∀ k3_t129 : Fin (k3_t129_loop i v266 v271).trips, ∀ (k3_h65 : k3_cond65 i v266 v271 = 1#1), ∀ a, (k3_off515 i v266 v271 k3_t129) a + S1x16.size a ≤ S256x128.size a) ∧
  (∀ k3_t129 : Fin (k3_t129_loop i v266 v271).trips, ∀ (k3_h65 : k3_cond65 i v266 v271 = 1#1), ∀ a, (k3_off516 i v266 v271 k3_t129) a + S1x16.size a ≤ S256x128.size a) ∧
  (∀ k3_t129 : Fin (k3_t129_loop i v266 v271).trips, ∀ (k3_h65 : k3_cond65 i v266 v271 = 1#1), ∀ a, (k3_off517 i v266 v271 k3_t129) a + S1x16.size a ≤ S256x128.size a) ∧
  (∀ k3_t129 : Fin (k3_t129_loop i v266 v271).trips, ∀ (k3_h65 : k3_cond65 i v266 v271 = 1#1), ∀ a, (k3_off518 i v266 v271 k3_t129) a + S1x16.size a ≤ S256x128.size a) ∧
  (∀ (k3_h65 : k3_cond65 i v266 v271 = 1#1), (k3_t130_loop i v266 v271).OK) ∧
  (∀ k3_t130 : Fin (k3_t130_loop i v266 v271).trips, ∀ (k3_h65 : k3_cond65 i v266 v271 = 1#1), ∀ a, (k3_off519 i v266 v271 k3_t130) a + S1x16.size a ≤ S256x128.size a) ∧
  (∀ k3_t130 : Fin (k3_t130_loop i v266 v271).trips, ∀ (k3_h65 : k3_cond65 i v266 v271 = 1#1), ∀ a, (k3_off520 i v266 v271 k3_t130) a + S1x16.size a ≤ S256x128.size a) ∧
  (∀ k3_t130 : Fin (k3_t130_loop i v266 v271).trips, ∀ (k3_h65 : k3_cond65 i v266 v271 = 1#1), ∀ a, (k3_off521 i v266 v271 k3_t130) a + S1x16.size a ≤ S256x128.size a) ∧
  (∀ k3_t130 : Fin (k3_t130_loop i v266 v271).trips, ∀ (k3_h65 : k3_cond65 i v266 v271 = 1#1), ∀ a, (k3_off522 i v266 v271 k3_t130) a + S1x16.size a ≤ S256x128.size a) ∧
  (∀ (k3_h97 : k3_cond97 i v266 v271 = 1#1), (k3_t193_loop i v266 v271).OK) ∧
  (∀ k3_t193 : Fin (k3_t193_loop i v266 v271).trips, ∀ (k3_h97 : k3_cond97 i v266 v271 = 1#1), ∀ a, (k3_off771 i v266 v271 k3_t193) a + S1x16.size a ≤ S256x128.size a)
def k3_chk1_1 (i : grid3.Coords) (v266 : BitVec 32) (v271 : BitVec 32) : Prop :=
  (∀ k3_t193 : Fin (k3_t193_loop i v266 v271).trips, ∀ (k3_h97 : k3_cond97 i v266 v271 = 1#1), ∀ a, (k3_off772 i v266 v271 k3_t193) a + S1x16.size a ≤ S256x128.size a) ∧
  (∀ k3_t193 : Fin (k3_t193_loop i v266 v271).trips, ∀ (k3_h97 : k3_cond97 i v266 v271 = 1#1), ∀ a, (k3_off773 i v266 v271 k3_t193) a + S1x16.size a ≤ S256x128.size a) ∧
  (∀ k3_t193 : Fin (k3_t193_loop i v266 v271).trips, ∀ (k3_h97 : k3_cond97 i v266 v271 = 1#1), ∀ a, (k3_off774 i v266 v271 k3_t193) a + S1x16.size a ≤ S256x128.size a) ∧
  (∀ (k3_h97 : k3_cond97 i v266 v271 = 1#1), (k3_t194_loop i v266 v271).OK) ∧
  (∀ k3_t194 : Fin (k3_t194_loop i v266 v271).trips, ∀ (k3_h97 : k3_cond97 i v266 v271 = 1#1), ∀ a, (k3_off775 i v266 v271 k3_t194) a + S1x16.size a ≤ S256x128.size a) ∧
  (∀ k3_t194 : Fin (k3_t194_loop i v266 v271).trips, ∀ (k3_h97 : k3_cond97 i v266 v271 = 1#1), ∀ a, (k3_off776 i v266 v271 k3_t194) a + S1x16.size a ≤ S256x128.size a) ∧
  (∀ k3_t194 : Fin (k3_t194_loop i v266 v271).trips, ∀ (k3_h97 : k3_cond97 i v266 v271 = 1#1), ∀ a, (k3_off777 i v266 v271 k3_t194) a + S1x16.size a ≤ S256x128.size a) ∧
  (∀ k3_t194 : Fin (k3_t194_loop i v266 v271).trips, ∀ (k3_h97 : k3_cond97 i v266 v271 = 1#1), ∀ a, (k3_off778 i v266 v271 k3_t194) a + S1x16.size a ≤ S256x128.size a)
def k3_chk1 (i : grid3.Coords) (v266 : BitVec 32) (v271 : BitVec 32) : Prop :=
  k3_chk1_0 i v266 v271 ∧
  k3_chk1_1 i v266 v271
theorem k3_t1_ok : ∀ (i : grid3.Coords) (v266 : BitVec 32) (v271 : BitVec 32) (k3_hw1 : k3_chk1 i v266 v271), ∀ (k3_h1 : k3_cond1 i v266 v271 = 1#1), (k3_t1_loop i v266 v271).OK := fun i v266 v271 k3_hw1 k3_h1 => k3_hw1.1.1 k3_h1
theorem k3_off2_inb : ∀ (i : grid3.Coords) (v266 : BitVec 32) (v271 : BitVec 32) (k3_hw1 : k3_chk1 i v266 v271) (k3_t1 : Fin (k3_t1_loop i v266 v271).trips), ∀ (k3_h1 : k3_cond1 i v266 v271 = 1#1), ∀ a, (k3_off2 i v266 v271 k3_t1) a + S1x16.size a ≤ S256x128.size a := fun i v266 v271 k3_hw1 k3_t1 k3_h1 => k3_hw1.1.2.1 k3_t1 k3_h1
theorem k3_off3_inb : ∀ (i : grid3.Coords) (v266 : BitVec 32) (v271 : BitVec 32) (k3_hw1 : k3_chk1 i v266 v271) (k3_t1 : Fin (k3_t1_loop i v266 v271).trips), ∀ (k3_h1 : k3_cond1 i v266 v271 = 1#1), ∀ a, (k3_off3 i v266 v271 k3_t1) a + S1x16.size a ≤ S256x128.size a := fun i v266 v271 k3_hw1 k3_t1 k3_h1 => k3_hw1.1.2.2.1 k3_t1 k3_h1
theorem k3_off4_inb : ∀ (i : grid3.Coords) (v266 : BitVec 32) (v271 : BitVec 32) (k3_hw1 : k3_chk1 i v266 v271) (k3_t1 : Fin (k3_t1_loop i v266 v271).trips), ∀ (k3_h1 : k3_cond1 i v266 v271 = 1#1), ∀ a, (k3_off4 i v266 v271 k3_t1) a + S1x16.size a ≤ S256x128.size a := fun i v266 v271 k3_hw1 k3_t1 k3_h1 => k3_hw1.1.2.2.2.1 k3_t1 k3_h1
theorem k3_off5_inb : ∀ (i : grid3.Coords) (v266 : BitVec 32) (v271 : BitVec 32) (k3_hw1 : k3_chk1 i v266 v271) (k3_t1 : Fin (k3_t1_loop i v266 v271).trips), ∀ (k3_h1 : k3_cond1 i v266 v271 = 1#1), ∀ a, (k3_off5 i v266 v271 k3_t1) a + S1x16.size a ≤ S256x128.size a := fun i v266 v271 k3_hw1 k3_t1 k3_h1 => k3_hw1.1.2.2.2.2.1 k3_t1 k3_h1
theorem k3_t2_ok : ∀ (i : grid3.Coords) (v266 : BitVec 32) (v271 : BitVec 32) (k3_hw1 : k3_chk1 i v266 v271), ∀ (k3_h1 : k3_cond1 i v266 v271 = 1#1), (k3_t2_loop i v266 v271).OK := fun i v266 v271 k3_hw1 k3_h1 => k3_hw1.1.2.2.2.2.2.1 k3_h1
theorem k3_off6_inb : ∀ (i : grid3.Coords) (v266 : BitVec 32) (v271 : BitVec 32) (k3_hw1 : k3_chk1 i v266 v271) (k3_t2 : Fin (k3_t2_loop i v266 v271).trips), ∀ (k3_h1 : k3_cond1 i v266 v271 = 1#1), ∀ a, (k3_off6 i v266 v271 k3_t2) a + S1x16.size a ≤ S256x128.size a := fun i v266 v271 k3_hw1 k3_t2 k3_h1 => k3_hw1.1.2.2.2.2.2.2.1 k3_t2 k3_h1
theorem k3_off7_inb : ∀ (i : grid3.Coords) (v266 : BitVec 32) (v271 : BitVec 32) (k3_hw1 : k3_chk1 i v266 v271) (k3_t2 : Fin (k3_t2_loop i v266 v271).trips), ∀ (k3_h1 : k3_cond1 i v266 v271 = 1#1), ∀ a, (k3_off7 i v266 v271 k3_t2) a + S1x16.size a ≤ S256x128.size a := fun i v266 v271 k3_hw1 k3_t2 k3_h1 => k3_hw1.1.2.2.2.2.2.2.2.1 k3_t2 k3_h1
theorem k3_off8_inb : ∀ (i : grid3.Coords) (v266 : BitVec 32) (v271 : BitVec 32) (k3_hw1 : k3_chk1 i v266 v271) (k3_t2 : Fin (k3_t2_loop i v266 v271).trips), ∀ (k3_h1 : k3_cond1 i v266 v271 = 1#1), ∀ a, (k3_off8 i v266 v271 k3_t2) a + S1x16.size a ≤ S256x128.size a := fun i v266 v271 k3_hw1 k3_t2 k3_h1 => k3_hw1.1.2.2.2.2.2.2.2.2.1 k3_t2 k3_h1
theorem k3_off9_inb : ∀ (i : grid3.Coords) (v266 : BitVec 32) (v271 : BitVec 32) (k3_hw1 : k3_chk1 i v266 v271) (k3_t2 : Fin (k3_t2_loop i v266 v271).trips), ∀ (k3_h1 : k3_cond1 i v266 v271 = 1#1), ∀ a, (k3_off9 i v266 v271 k3_t2) a + S1x16.size a ≤ S256x128.size a := fun i v266 v271 k3_hw1 k3_t2 k3_h1 => k3_hw1.1.2.2.2.2.2.2.2.2.2.1 k3_t2 k3_h1
theorem k3_t65_ok : ∀ (i : grid3.Coords) (v266 : BitVec 32) (v271 : BitVec 32) (k3_hw1 : k3_chk1 i v266 v271), ∀ (k3_h33 : k3_cond33 i v266 v271 = 1#1), (k3_t65_loop i v266 v271).OK := fun i v266 v271 k3_hw1 k3_h33 => k3_hw1.1.2.2.2.2.2.2.2.2.2.2.1 k3_h33
theorem k3_off259_inb : ∀ (i : grid3.Coords) (v266 : BitVec 32) (v271 : BitVec 32) (k3_hw1 : k3_chk1 i v266 v271) (k3_t65 : Fin (k3_t65_loop i v266 v271).trips), ∀ (k3_h33 : k3_cond33 i v266 v271 = 1#1), ∀ a, (k3_off259 i v266 v271 k3_t65) a + S1x16.size a ≤ S256x128.size a := fun i v266 v271 k3_hw1 k3_t65 k3_h33 => k3_hw1.1.2.2.2.2.2.2.2.2.2.2.2.1 k3_t65 k3_h33
theorem k3_off260_inb : ∀ (i : grid3.Coords) (v266 : BitVec 32) (v271 : BitVec 32) (k3_hw1 : k3_chk1 i v266 v271) (k3_t65 : Fin (k3_t65_loop i v266 v271).trips), ∀ (k3_h33 : k3_cond33 i v266 v271 = 1#1), ∀ a, (k3_off260 i v266 v271 k3_t65) a + S1x16.size a ≤ S256x128.size a := fun i v266 v271 k3_hw1 k3_t65 k3_h33 => k3_hw1.1.2.2.2.2.2.2.2.2.2.2.2.2.1 k3_t65 k3_h33
theorem k3_off261_inb : ∀ (i : grid3.Coords) (v266 : BitVec 32) (v271 : BitVec 32) (k3_hw1 : k3_chk1 i v266 v271) (k3_t65 : Fin (k3_t65_loop i v266 v271).trips), ∀ (k3_h33 : k3_cond33 i v266 v271 = 1#1), ∀ a, (k3_off261 i v266 v271 k3_t65) a + S1x16.size a ≤ S256x128.size a := fun i v266 v271 k3_hw1 k3_t65 k3_h33 => k3_hw1.1.2.2.2.2.2.2.2.2.2.2.2.2.2.1 k3_t65 k3_h33
theorem k3_off262_inb : ∀ (i : grid3.Coords) (v266 : BitVec 32) (v271 : BitVec 32) (k3_hw1 : k3_chk1 i v266 v271) (k3_t65 : Fin (k3_t65_loop i v266 v271).trips), ∀ (k3_h33 : k3_cond33 i v266 v271 = 1#1), ∀ a, (k3_off262 i v266 v271 k3_t65) a + S1x16.size a ≤ S256x128.size a := fun i v266 v271 k3_hw1 k3_t65 k3_h33 => k3_hw1.1.2.2.2.2.2.2.2.2.2.2.2.2.2.2.1 k3_t65 k3_h33
theorem k3_t66_ok : ∀ (i : grid3.Coords) (v266 : BitVec 32) (v271 : BitVec 32) (k3_hw1 : k3_chk1 i v266 v271), ∀ (k3_h33 : k3_cond33 i v266 v271 = 1#1), (k3_t66_loop i v266 v271).OK := fun i v266 v271 k3_hw1 k3_h33 => k3_hw1.1.2.2.2.2.2.2.2.2.2.2.2.2.2.2.2.1 k3_h33
theorem k3_off263_inb : ∀ (i : grid3.Coords) (v266 : BitVec 32) (v271 : BitVec 32) (k3_hw1 : k3_chk1 i v266 v271) (k3_t66 : Fin (k3_t66_loop i v266 v271).trips), ∀ (k3_h33 : k3_cond33 i v266 v271 = 1#1), ∀ a, (k3_off263 i v266 v271 k3_t66) a + S1x16.size a ≤ S256x128.size a := fun i v266 v271 k3_hw1 k3_t66 k3_h33 => k3_hw1.1.2.2.2.2.2.2.2.2.2.2.2.2.2.2.2.2.1 k3_t66 k3_h33
theorem k3_off264_inb : ∀ (i : grid3.Coords) (v266 : BitVec 32) (v271 : BitVec 32) (k3_hw1 : k3_chk1 i v266 v271) (k3_t66 : Fin (k3_t66_loop i v266 v271).trips), ∀ (k3_h33 : k3_cond33 i v266 v271 = 1#1), ∀ a, (k3_off264 i v266 v271 k3_t66) a + S1x16.size a ≤ S256x128.size a := fun i v266 v271 k3_hw1 k3_t66 k3_h33 => k3_hw1.1.2.2.2.2.2.2.2.2.2.2.2.2.2.2.2.2.2.1 k3_t66 k3_h33
theorem k3_off265_inb : ∀ (i : grid3.Coords) (v266 : BitVec 32) (v271 : BitVec 32) (k3_hw1 : k3_chk1 i v266 v271) (k3_t66 : Fin (k3_t66_loop i v266 v271).trips), ∀ (k3_h33 : k3_cond33 i v266 v271 = 1#1), ∀ a, (k3_off265 i v266 v271 k3_t66) a + S1x16.size a ≤ S256x128.size a := fun i v266 v271 k3_hw1 k3_t66 k3_h33 => k3_hw1.1.2.2.2.2.2.2.2.2.2.2.2.2.2.2.2.2.2.2.1 k3_t66 k3_h33
theorem k3_off266_inb : ∀ (i : grid3.Coords) (v266 : BitVec 32) (v271 : BitVec 32) (k3_hw1 : k3_chk1 i v266 v271) (k3_t66 : Fin (k3_t66_loop i v266 v271).trips), ∀ (k3_h33 : k3_cond33 i v266 v271 = 1#1), ∀ a, (k3_off266 i v266 v271 k3_t66) a + S1x16.size a ≤ S256x128.size a := fun i v266 v271 k3_hw1 k3_t66 k3_h33 => k3_hw1.1.2.2.2.2.2.2.2.2.2.2.2.2.2.2.2.2.2.2.2.1 k3_t66 k3_h33
theorem k3_t129_ok : ∀ (i : grid3.Coords) (v266 : BitVec 32) (v271 : BitVec 32) (k3_hw1 : k3_chk1 i v266 v271), ∀ (k3_h65 : k3_cond65 i v266 v271 = 1#1), (k3_t129_loop i v266 v271).OK := fun i v266 v271 k3_hw1 k3_h65 => k3_hw1.1.2.2.2.2.2.2.2.2.2.2.2.2.2.2.2.2.2.2.2.2.1 k3_h65
theorem k3_off515_inb : ∀ (i : grid3.Coords) (v266 : BitVec 32) (v271 : BitVec 32) (k3_hw1 : k3_chk1 i v266 v271) (k3_t129 : Fin (k3_t129_loop i v266 v271).trips), ∀ (k3_h65 : k3_cond65 i v266 v271 = 1#1), ∀ a, (k3_off515 i v266 v271 k3_t129) a + S1x16.size a ≤ S256x128.size a := fun i v266 v271 k3_hw1 k3_t129 k3_h65 => k3_hw1.1.2.2.2.2.2.2.2.2.2.2.2.2.2.2.2.2.2.2.2.2.2.1 k3_t129 k3_h65
theorem k3_off516_inb : ∀ (i : grid3.Coords) (v266 : BitVec 32) (v271 : BitVec 32) (k3_hw1 : k3_chk1 i v266 v271) (k3_t129 : Fin (k3_t129_loop i v266 v271).trips), ∀ (k3_h65 : k3_cond65 i v266 v271 = 1#1), ∀ a, (k3_off516 i v266 v271 k3_t129) a + S1x16.size a ≤ S256x128.size a := fun i v266 v271 k3_hw1 k3_t129 k3_h65 => k3_hw1.1.2.2.2.2.2.2.2.2.2.2.2.2.2.2.2.2.2.2.2.2.2.2.1 k3_t129 k3_h65
theorem k3_off517_inb : ∀ (i : grid3.Coords) (v266 : BitVec 32) (v271 : BitVec 32) (k3_hw1 : k3_chk1 i v266 v271) (k3_t129 : Fin (k3_t129_loop i v266 v271).trips), ∀ (k3_h65 : k3_cond65 i v266 v271 = 1#1), ∀ a, (k3_off517 i v266 v271 k3_t129) a + S1x16.size a ≤ S256x128.size a := fun i v266 v271 k3_hw1 k3_t129 k3_h65 => k3_hw1.1.2.2.2.2.2.2.2.2.2.2.2.2.2.2.2.2.2.2.2.2.2.2.2.1 k3_t129 k3_h65
theorem k3_off518_inb : ∀ (i : grid3.Coords) (v266 : BitVec 32) (v271 : BitVec 32) (k3_hw1 : k3_chk1 i v266 v271) (k3_t129 : Fin (k3_t129_loop i v266 v271).trips), ∀ (k3_h65 : k3_cond65 i v266 v271 = 1#1), ∀ a, (k3_off518 i v266 v271 k3_t129) a + S1x16.size a ≤ S256x128.size a := fun i v266 v271 k3_hw1 k3_t129 k3_h65 => k3_hw1.1.2.2.2.2.2.2.2.2.2.2.2.2.2.2.2.2.2.2.2.2.2.2.2.2.1 k3_t129 k3_h65
theorem k3_t130_ok : ∀ (i : grid3.Coords) (v266 : BitVec 32) (v271 : BitVec 32) (k3_hw1 : k3_chk1 i v266 v271), ∀ (k3_h65 : k3_cond65 i v266 v271 = 1#1), (k3_t130_loop i v266 v271).OK := fun i v266 v271 k3_hw1 k3_h65 => k3_hw1.1.2.2.2.2.2.2.2.2.2.2.2.2.2.2.2.2.2.2.2.2.2.2.2.2.2.1 k3_h65
theorem k3_off519_inb : ∀ (i : grid3.Coords) (v266 : BitVec 32) (v271 : BitVec 32) (k3_hw1 : k3_chk1 i v266 v271) (k3_t130 : Fin (k3_t130_loop i v266 v271).trips), ∀ (k3_h65 : k3_cond65 i v266 v271 = 1#1), ∀ a, (k3_off519 i v266 v271 k3_t130) a + S1x16.size a ≤ S256x128.size a := fun i v266 v271 k3_hw1 k3_t130 k3_h65 => k3_hw1.1.2.2.2.2.2.2.2.2.2.2.2.2.2.2.2.2.2.2.2.2.2.2.2.2.2.2.1 k3_t130 k3_h65
theorem k3_off520_inb : ∀ (i : grid3.Coords) (v266 : BitVec 32) (v271 : BitVec 32) (k3_hw1 : k3_chk1 i v266 v271) (k3_t130 : Fin (k3_t130_loop i v266 v271).trips), ∀ (k3_h65 : k3_cond65 i v266 v271 = 1#1), ∀ a, (k3_off520 i v266 v271 k3_t130) a + S1x16.size a ≤ S256x128.size a := fun i v266 v271 k3_hw1 k3_t130 k3_h65 => k3_hw1.1.2.2.2.2.2.2.2.2.2.2.2.2.2.2.2.2.2.2.2.2.2.2.2.2.2.2.2.1 k3_t130 k3_h65
theorem k3_off521_inb : ∀ (i : grid3.Coords) (v266 : BitVec 32) (v271 : BitVec 32) (k3_hw1 : k3_chk1 i v266 v271) (k3_t130 : Fin (k3_t130_loop i v266 v271).trips), ∀ (k3_h65 : k3_cond65 i v266 v271 = 1#1), ∀ a, (k3_off521 i v266 v271 k3_t130) a + S1x16.size a ≤ S256x128.size a := fun i v266 v271 k3_hw1 k3_t130 k3_h65 => k3_hw1.1.2.2.2.2.2.2.2.2.2.2.2.2.2.2.2.2.2.2.2.2.2.2.2.2.2.2.2.2.1 k3_t130 k3_h65
theorem k3_off522_inb : ∀ (i : grid3.Coords) (v266 : BitVec 32) (v271 : BitVec 32) (k3_hw1 : k3_chk1 i v266 v271) (k3_t130 : Fin (k3_t130_loop i v266 v271).trips), ∀ (k3_h65 : k3_cond65 i v266 v271 = 1#1), ∀ a, (k3_off522 i v266 v271 k3_t130) a + S1x16.size a ≤ S256x128.size a := fun i v266 v271 k3_hw1 k3_t130 k3_h65 => k3_hw1.1.2.2.2.2.2.2.2.2.2.2.2.2.2.2.2.2.2.2.2.2.2.2.2.2.2.2.2.2.2.1 k3_t130 k3_h65
theorem k3_t193_ok : ∀ (i : grid3.Coords) (v266 : BitVec 32) (v271 : BitVec 32) (k3_hw1 : k3_chk1 i v266 v271), ∀ (k3_h97 : k3_cond97 i v266 v271 = 1#1), (k3_t193_loop i v266 v271).OK := fun i v266 v271 k3_hw1 k3_h97 => k3_hw1.1.2.2.2.2.2.2.2.2.2.2.2.2.2.2.2.2.2.2.2.2.2.2.2.2.2.2.2.2.2.2.1 k3_h97
theorem k3_off771_inb : ∀ (i : grid3.Coords) (v266 : BitVec 32) (v271 : BitVec 32) (k3_hw1 : k3_chk1 i v266 v271) (k3_t193 : Fin (k3_t193_loop i v266 v271).trips), ∀ (k3_h97 : k3_cond97 i v266 v271 = 1#1), ∀ a, (k3_off771 i v266 v271 k3_t193) a + S1x16.size a ≤ S256x128.size a := fun i v266 v271 k3_hw1 k3_t193 k3_h97 => k3_hw1.1.2.2.2.2.2.2.2.2.2.2.2.2.2.2.2.2.2.2.2.2.2.2.2.2.2.2.2.2.2.2.2 k3_t193 k3_h97
theorem k3_off772_inb : ∀ (i : grid3.Coords) (v266 : BitVec 32) (v271 : BitVec 32) (k3_hw1 : k3_chk1 i v266 v271) (k3_t193 : Fin (k3_t193_loop i v266 v271).trips), ∀ (k3_h97 : k3_cond97 i v266 v271 = 1#1), ∀ a, (k3_off772 i v266 v271 k3_t193) a + S1x16.size a ≤ S256x128.size a := fun i v266 v271 k3_hw1 k3_t193 k3_h97 => k3_hw1.2.1 k3_t193 k3_h97
theorem k3_off773_inb : ∀ (i : grid3.Coords) (v266 : BitVec 32) (v271 : BitVec 32) (k3_hw1 : k3_chk1 i v266 v271) (k3_t193 : Fin (k3_t193_loop i v266 v271).trips), ∀ (k3_h97 : k3_cond97 i v266 v271 = 1#1), ∀ a, (k3_off773 i v266 v271 k3_t193) a + S1x16.size a ≤ S256x128.size a := fun i v266 v271 k3_hw1 k3_t193 k3_h97 => k3_hw1.2.2.1 k3_t193 k3_h97
theorem k3_off774_inb : ∀ (i : grid3.Coords) (v266 : BitVec 32) (v271 : BitVec 32) (k3_hw1 : k3_chk1 i v266 v271) (k3_t193 : Fin (k3_t193_loop i v266 v271).trips), ∀ (k3_h97 : k3_cond97 i v266 v271 = 1#1), ∀ a, (k3_off774 i v266 v271 k3_t193) a + S1x16.size a ≤ S256x128.size a := fun i v266 v271 k3_hw1 k3_t193 k3_h97 => k3_hw1.2.2.2.1 k3_t193 k3_h97
theorem k3_t194_ok : ∀ (i : grid3.Coords) (v266 : BitVec 32) (v271 : BitVec 32) (k3_hw1 : k3_chk1 i v266 v271), ∀ (k3_h97 : k3_cond97 i v266 v271 = 1#1), (k3_t194_loop i v266 v271).OK := fun i v266 v271 k3_hw1 k3_h97 => k3_hw1.2.2.2.2.1 k3_h97
theorem k3_off775_inb : ∀ (i : grid3.Coords) (v266 : BitVec 32) (v271 : BitVec 32) (k3_hw1 : k3_chk1 i v266 v271) (k3_t194 : Fin (k3_t194_loop i v266 v271).trips), ∀ (k3_h97 : k3_cond97 i v266 v271 = 1#1), ∀ a, (k3_off775 i v266 v271 k3_t194) a + S1x16.size a ≤ S256x128.size a := fun i v266 v271 k3_hw1 k3_t194 k3_h97 => k3_hw1.2.2.2.2.2.1 k3_t194 k3_h97
theorem k3_off776_inb : ∀ (i : grid3.Coords) (v266 : BitVec 32) (v271 : BitVec 32) (k3_hw1 : k3_chk1 i v266 v271) (k3_t194 : Fin (k3_t194_loop i v266 v271).trips), ∀ (k3_h97 : k3_cond97 i v266 v271 = 1#1), ∀ a, (k3_off776 i v266 v271 k3_t194) a + S1x16.size a ≤ S256x128.size a := fun i v266 v271 k3_hw1 k3_t194 k3_h97 => k3_hw1.2.2.2.2.2.2.1 k3_t194 k3_h97
theorem k3_off777_inb : ∀ (i : grid3.Coords) (v266 : BitVec 32) (v271 : BitVec 32) (k3_hw1 : k3_chk1 i v266 v271) (k3_t194 : Fin (k3_t194_loop i v266 v271).trips), ∀ (k3_h97 : k3_cond97 i v266 v271 = 1#1), ∀ a, (k3_off777 i v266 v271 k3_t194) a + S1x16.size a ≤ S256x128.size a := fun i v266 v271 k3_hw1 k3_t194 k3_h97 => k3_hw1.2.2.2.2.2.2.2.1 k3_t194 k3_h97
theorem k3_off778_inb : ∀ (i : grid3.Coords) (v266 : BitVec 32) (v271 : BitVec 32) (k3_hw1 : k3_chk1 i v266 v271) (k3_t194 : Fin (k3_t194_loop i v266 v271).trips), ∀ (k3_h97 : k3_cond97 i v266 v271 = 1#1), ∀ a, (k3_off778 i v266 v271 k3_t194) a + S1x16.size a ≤ S256x128.size a := fun i v266 v271 k3_hw1 k3_t194 k3_h97 => k3_hw1.2.2.2.2.2.2.2.2 k3_t194 k3_h97

@[reducible] def k3_t195_loop (i : grid3.Coords) (v276 : BitVec 32) (v282 : BitVec 32) : Scf.Loop 32 :=
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let c256_i32_975 : BitVec 32 := 256#32
  let c0_i32_974 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c768_i32_973 : BitVec 32 := 768#32
  let v1517 : BitVec 32 := Scalar.subi v286 c768_i32_973
  let v1518 : BitVec 32 := Scalar.maxsi c0_i32_974 v1517
  let v1519 : BitVec 32 := Scalar.minsi c256_i32_975 v1518
  let v1805 : BitVec 32 := Scalar.subi v1519 v1516
  let c1_i32_1195 : BitVec 32 := 1#32
  let v1807 : BitVec 32 := Scalar.divsi v1805 c1_i32_1195
  let v1808 : BitVec 32 := Scalar.muli v1807 c1_i32_1195
  let v1809 : BitVec 32 := Scalar.addi v1516 v1808
  let c1_i32_1196 : BitVec 32 := 1#32
  ⟨v1516, v1809, c1_i32_1196⟩
def k3_cond98 (i : grid3.Coords) (v276 : BitVec 32) (v282 : BitVec 32) : BitVec 1 :=
  let c256_i32_975 : BitVec 32 := 256#32
  let c0_i32_974 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v284 : BitVec 32 := Scalar.subi v283 v3
  let v285 : BitVec 32 := Scalar.maxsi c0_i32_118 v284
  let v286 : BitVec 32 := Scalar.minsi c1024_i32_119 v285
  let c768_i32_973 : BitVec 32 := 768#32
  let v1517 : BitVec 32 := Scalar.subi v286 c768_i32_973
  let v1518 : BitVec 32 := Scalar.maxsi c0_i32_974 v1517
  let v1519 : BitVec 32 := Scalar.minsi c256_i32_975 v1518
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let v1520 : BitVec 1 := Scalar.cmpi .sgt v1519 v1516
  let v1521 : BitVec 32 := Scalar.extui v1520
  let c0_i32_976 : BitVec 32 := 0#32
  let v1522 : BitVec 1 := Scalar.cmpi .ne v1521 c0_i32_976
  v1522

def k3_off779 (i : grid3.Coords) (v276 : BitVec 32) (v282 : BitVec 32) (k3_t195 : Fin (k3_t195_loop i v276 v282).trips) : Fin 2 → Nat :=
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let c1_i32_1196 : BitVec 32 := 1#32
  let arg13 : BitVec 32 := Scf.iv v1516 c1_i32_1196 k3_t195
  let v1828 : Index := Scalar.indexCast arg13
  let c64 : Index := 64#32
  ![v1828.toNat, 64]
def k3_off780 (i : grid3.Coords) (v276 : BitVec 32) (v282 : BitVec 32) (k3_t195 : Fin (k3_t195_loop i v276 v282).trips) : Fin 2 → Nat :=
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let c1_i32_1196 : BitVec 32 := 1#32
  let arg13 : BitVec 32 := Scf.iv v1516 c1_i32_1196 k3_t195
  let v1832 : Index := Scalar.indexCast arg13
  let c80 : Index := 80#32
  ![v1832.toNat, 80]
def k3_off781 (i : grid3.Coords) (v276 : BitVec 32) (v282 : BitVec 32) (k3_t195 : Fin (k3_t195_loop i v276 v282).trips) : Fin 2 → Nat :=
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let c1_i32_1196 : BitVec 32 := 1#32
  let arg13 : BitVec 32 := Scf.iv v1516 c1_i32_1196 k3_t195
  let v1836 : Index := Scalar.indexCast arg13
  let c96 : Index := 96#32
  ![v1836.toNat, 96]
def k3_off782 (i : grid3.Coords) (v276 : BitVec 32) (v282 : BitVec 32) (k3_t195 : Fin (k3_t195_loop i v276 v282).trips) : Fin 2 → Nat :=
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let c1_i32_1196 : BitVec 32 := 1#32
  let arg13 : BitVec 32 := Scf.iv v1516 c1_i32_1196 k3_t195
  let v1840 : Index := Scalar.indexCast arg13
  let c112 : Index := 112#32
  ![v1840.toNat, 112]
@[reducible] def k3_t196_loop (i : grid3.Coords) (v276 : BitVec 32) (v282 : BitVec 32) : Scf.Loop 32 :=
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let c256_i32_975 : BitVec 32 := 256#32
  let c0_i32_974 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c768_i32_973 : BitVec 32 := 768#32
  let v1517 : BitVec 32 := Scalar.subi v286 c768_i32_973
  let v1518 : BitVec 32 := Scalar.maxsi c0_i32_974 v1517
  let v1519 : BitVec 32 := Scalar.minsi c256_i32_975 v1518
  let v1805 : BitVec 32 := Scalar.subi v1519 v1516
  let c1_i32_1195 : BitVec 32 := 1#32
  let v1807 : BitVec 32 := Scalar.divsi v1805 c1_i32_1195
  let v1808 : BitVec 32 := Scalar.muli v1807 c1_i32_1195
  let v1809 : BitVec 32 := Scalar.addi v1516 v1808
  let v1806 : BitVec 32 := Scalar.addi v1516 v1805
  let c1_i32_1197 : BitVec 32 := 1#32
  ⟨v1809, v1806, c1_i32_1197⟩
def k3_off783 (i : grid3.Coords) (v276 : BitVec 32) (v282 : BitVec 32) (k3_t196 : Fin (k3_t196_loop i v276 v282).trips) : Fin 2 → Nat :=
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let c256_i32_975 : BitVec 32 := 256#32
  let c0_i32_974 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c768_i32_973 : BitVec 32 := 768#32
  let v1517 : BitVec 32 := Scalar.subi v286 c768_i32_973
  let v1518 : BitVec 32 := Scalar.maxsi c0_i32_974 v1517
  let v1519 : BitVec 32 := Scalar.minsi c256_i32_975 v1518
  let v1805 : BitVec 32 := Scalar.subi v1519 v1516
  let c1_i32_1195 : BitVec 32 := 1#32
  let v1807 : BitVec 32 := Scalar.divsi v1805 c1_i32_1195
  let v1808 : BitVec 32 := Scalar.muli v1807 c1_i32_1195
  let v1809 : BitVec 32 := Scalar.addi v1516 v1808
  let c1_i32_1197 : BitVec 32 := 1#32
  let arg13 : BitVec 32 := Scf.iv v1809 c1_i32_1197 k3_t196
  let v1828 : Index := Scalar.indexCast arg13
  let c64 : Index := 64#32
  ![v1828.toNat, 64]
def k3_off784 (i : grid3.Coords) (v276 : BitVec 32) (v282 : BitVec 32) (k3_t196 : Fin (k3_t196_loop i v276 v282).trips) : Fin 2 → Nat :=
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let c256_i32_975 : BitVec 32 := 256#32
  let c0_i32_974 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c768_i32_973 : BitVec 32 := 768#32
  let v1517 : BitVec 32 := Scalar.subi v286 c768_i32_973
  let v1518 : BitVec 32 := Scalar.maxsi c0_i32_974 v1517
  let v1519 : BitVec 32 := Scalar.minsi c256_i32_975 v1518
  let v1805 : BitVec 32 := Scalar.subi v1519 v1516
  let c1_i32_1195 : BitVec 32 := 1#32
  let v1807 : BitVec 32 := Scalar.divsi v1805 c1_i32_1195
  let v1808 : BitVec 32 := Scalar.muli v1807 c1_i32_1195
  let v1809 : BitVec 32 := Scalar.addi v1516 v1808
  let c1_i32_1197 : BitVec 32 := 1#32
  let arg13 : BitVec 32 := Scf.iv v1809 c1_i32_1197 k3_t196
  let v1832 : Index := Scalar.indexCast arg13
  let c80 : Index := 80#32
  ![v1832.toNat, 80]
def k3_off785 (i : grid3.Coords) (v276 : BitVec 32) (v282 : BitVec 32) (k3_t196 : Fin (k3_t196_loop i v276 v282).trips) : Fin 2 → Nat :=
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let c256_i32_975 : BitVec 32 := 256#32
  let c0_i32_974 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c768_i32_973 : BitVec 32 := 768#32
  let v1517 : BitVec 32 := Scalar.subi v286 c768_i32_973
  let v1518 : BitVec 32 := Scalar.maxsi c0_i32_974 v1517
  let v1519 : BitVec 32 := Scalar.minsi c256_i32_975 v1518
  let v1805 : BitVec 32 := Scalar.subi v1519 v1516
  let c1_i32_1195 : BitVec 32 := 1#32
  let v1807 : BitVec 32 := Scalar.divsi v1805 c1_i32_1195
  let v1808 : BitVec 32 := Scalar.muli v1807 c1_i32_1195
  let v1809 : BitVec 32 := Scalar.addi v1516 v1808
  let c1_i32_1197 : BitVec 32 := 1#32
  let arg13 : BitVec 32 := Scf.iv v1809 c1_i32_1197 k3_t196
  let v1836 : Index := Scalar.indexCast arg13
  let c96 : Index := 96#32
  ![v1836.toNat, 96]
def k3_off786 (i : grid3.Coords) (v276 : BitVec 32) (v282 : BitVec 32) (k3_t196 : Fin (k3_t196_loop i v276 v282).trips) : Fin 2 → Nat :=
  let c256_i32_972 : BitVec 32 := 256#32
  let c0_i32_971 : BitVec 32 := 0#32
  let c1024_i32_116 : BitVec 32 := 1024#32
  let c0_i32_115 : BitVec 32 := 0#32
  let c65536_i32 : BitVec 32 := 65536#32
  let v277 : BitVec 32 := Scalar.subi v276 c65536_i32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v278 : BitVec 32 := Scalar.subi v277 v3
  let v279 : BitVec 32 := Scalar.maxsi c0_i32_115 v278
  let v280 : BitVec 32 := Scalar.minsi c1024_i32_116 v279
  let c768_i32_970 : BitVec 32 := 768#32
  let v1514 : BitVec 32 := Scalar.subi v280 c768_i32_970
  let v1515 : BitVec 32 := Scalar.maxsi c0_i32_971 v1514
  let v1516 : BitVec 32 := Scalar.minsi c256_i32_972 v1515
  let c256_i32_975 : BitVec 32 := 256#32
  let c0_i32_974 : BitVec 32 := 0#32
  let c1024_i32_119 : BitVec 32 := 1024#32
  let c0_i32_118 : BitVec 32 := 0#32
  let c65536_i32_117 : BitVec 32 := 65536#32
  let v283 : BitVec 32 := Scalar.subi v282 c65536_i32_117
  let v284 : BitVec 32 := Scalar.subi v283 v3
  let v285 : BitVec 32 := Scalar.maxsi c0_i32_118 v284
  let v286 : BitVec 32 := Scalar.minsi c1024_i32_119 v285
  let c768_i32_973 : BitVec 32 := 768#32
  let v1517 : BitVec 32 := Scalar.subi v286 c768_i32_973
  let v1518 : BitVec 32 := Scalar.maxsi c0_i32_974 v1517
  let v1519 : BitVec 32 := Scalar.minsi c256_i32_975 v1518
  let v1805 : BitVec 32 := Scalar.subi v1519 v1516
  let c1_i32_1195 : BitVec 32 := 1#32
  let v1807 : BitVec 32 := Scalar.divsi v1805 c1_i32_1195
  let v1808 : BitVec 32 := Scalar.muli v1807 c1_i32_1195
  let v1809 : BitVec 32 := Scalar.addi v1516 v1808
  let c1_i32_1197 : BitVec 32 := 1#32
  let arg13 : BitVec 32 := Scf.iv v1809 c1_i32_1197 k3_t196
  let v1840 : Index := Scalar.indexCast arg13
  let c112 : Index := 112#32
  ![v1840.toNat, 112]

def k3_chk2_0 (i : grid3.Coords) (v276 : BitVec 32) (v282 : BitVec 32) : Prop :=
  (∀ (k3_h2 : k3_cond2 i v276 v282 = 1#1), (k3_t3_loop i v276 v282).OK) ∧
  (∀ k3_t3 : Fin (k3_t3_loop i v276 v282).trips, ∀ (k3_h2 : k3_cond2 i v276 v282 = 1#1), ∀ a, (k3_off10 i v276 v282 k3_t3) a + S1x16.size a ≤ S256x128.size a) ∧
  (∀ k3_t3 : Fin (k3_t3_loop i v276 v282).trips, ∀ (k3_h2 : k3_cond2 i v276 v282 = 1#1), ∀ a, (k3_off11 i v276 v282 k3_t3) a + S1x16.size a ≤ S256x128.size a) ∧
  (∀ k3_t3 : Fin (k3_t3_loop i v276 v282).trips, ∀ (k3_h2 : k3_cond2 i v276 v282 = 1#1), ∀ a, (k3_off12 i v276 v282 k3_t3) a + S1x16.size a ≤ S256x128.size a) ∧
  (∀ k3_t3 : Fin (k3_t3_loop i v276 v282).trips, ∀ (k3_h2 : k3_cond2 i v276 v282 = 1#1), ∀ a, (k3_off13 i v276 v282 k3_t3) a + S1x16.size a ≤ S256x128.size a) ∧
  (∀ (k3_h2 : k3_cond2 i v276 v282 = 1#1), (k3_t4_loop i v276 v282).OK) ∧
  (∀ k3_t4 : Fin (k3_t4_loop i v276 v282).trips, ∀ (k3_h2 : k3_cond2 i v276 v282 = 1#1), ∀ a, (k3_off14 i v276 v282 k3_t4) a + S1x16.size a ≤ S256x128.size a) ∧
  (∀ k3_t4 : Fin (k3_t4_loop i v276 v282).trips, ∀ (k3_h2 : k3_cond2 i v276 v282 = 1#1), ∀ a, (k3_off15 i v276 v282 k3_t4) a + S1x16.size a ≤ S256x128.size a) ∧
  (∀ k3_t4 : Fin (k3_t4_loop i v276 v282).trips, ∀ (k3_h2 : k3_cond2 i v276 v282 = 1#1), ∀ a, (k3_off16 i v276 v282 k3_t4) a + S1x16.size a ≤ S256x128.size a) ∧
  (∀ k3_t4 : Fin (k3_t4_loop i v276 v282).trips, ∀ (k3_h2 : k3_cond2 i v276 v282 = 1#1), ∀ a, (k3_off17 i v276 v282 k3_t4) a + S1x16.size a ≤ S256x128.size a) ∧
  (∀ (k3_h34 : k3_cond34 i v276 v282 = 1#1), (k3_t67_loop i v276 v282).OK) ∧
  (∀ k3_t67 : Fin (k3_t67_loop i v276 v282).trips, ∀ (k3_h34 : k3_cond34 i v276 v282 = 1#1), ∀ a, (k3_off267 i v276 v282 k3_t67) a + S1x16.size a ≤ S256x128.size a) ∧
  (∀ k3_t67 : Fin (k3_t67_loop i v276 v282).trips, ∀ (k3_h34 : k3_cond34 i v276 v282 = 1#1), ∀ a, (k3_off268 i v276 v282 k3_t67) a + S1x16.size a ≤ S256x128.size a) ∧
  (∀ k3_t67 : Fin (k3_t67_loop i v276 v282).trips, ∀ (k3_h34 : k3_cond34 i v276 v282 = 1#1), ∀ a, (k3_off269 i v276 v282 k3_t67) a + S1x16.size a ≤ S256x128.size a) ∧
  (∀ k3_t67 : Fin (k3_t67_loop i v276 v282).trips, ∀ (k3_h34 : k3_cond34 i v276 v282 = 1#1), ∀ a, (k3_off270 i v276 v282 k3_t67) a + S1x16.size a ≤ S256x128.size a) ∧
  (∀ (k3_h34 : k3_cond34 i v276 v282 = 1#1), (k3_t68_loop i v276 v282).OK) ∧
  (∀ k3_t68 : Fin (k3_t68_loop i v276 v282).trips, ∀ (k3_h34 : k3_cond34 i v276 v282 = 1#1), ∀ a, (k3_off271 i v276 v282 k3_t68) a + S1x16.size a ≤ S256x128.size a) ∧
  (∀ k3_t68 : Fin (k3_t68_loop i v276 v282).trips, ∀ (k3_h34 : k3_cond34 i v276 v282 = 1#1), ∀ a, (k3_off272 i v276 v282 k3_t68) a + S1x16.size a ≤ S256x128.size a) ∧
  (∀ k3_t68 : Fin (k3_t68_loop i v276 v282).trips, ∀ (k3_h34 : k3_cond34 i v276 v282 = 1#1), ∀ a, (k3_off273 i v276 v282 k3_t68) a + S1x16.size a ≤ S256x128.size a) ∧
  (∀ k3_t68 : Fin (k3_t68_loop i v276 v282).trips, ∀ (k3_h34 : k3_cond34 i v276 v282 = 1#1), ∀ a, (k3_off274 i v276 v282 k3_t68) a + S1x16.size a ≤ S256x128.size a) ∧
  (∀ (k3_h66 : k3_cond66 i v276 v282 = 1#1), (k3_t131_loop i v276 v282).OK) ∧
  (∀ k3_t131 : Fin (k3_t131_loop i v276 v282).trips, ∀ (k3_h66 : k3_cond66 i v276 v282 = 1#1), ∀ a, (k3_off523 i v276 v282 k3_t131) a + S1x16.size a ≤ S256x128.size a) ∧
  (∀ k3_t131 : Fin (k3_t131_loop i v276 v282).trips, ∀ (k3_h66 : k3_cond66 i v276 v282 = 1#1), ∀ a, (k3_off524 i v276 v282 k3_t131) a + S1x16.size a ≤ S256x128.size a) ∧
  (∀ k3_t131 : Fin (k3_t131_loop i v276 v282).trips, ∀ (k3_h66 : k3_cond66 i v276 v282 = 1#1), ∀ a, (k3_off525 i v276 v282 k3_t131) a + S1x16.size a ≤ S256x128.size a) ∧
  (∀ k3_t131 : Fin (k3_t131_loop i v276 v282).trips, ∀ (k3_h66 : k3_cond66 i v276 v282 = 1#1), ∀ a, (k3_off526 i v276 v282 k3_t131) a + S1x16.size a ≤ S256x128.size a) ∧
  (∀ (k3_h66 : k3_cond66 i v276 v282 = 1#1), (k3_t132_loop i v276 v282).OK) ∧
  (∀ k3_t132 : Fin (k3_t132_loop i v276 v282).trips, ∀ (k3_h66 : k3_cond66 i v276 v282 = 1#1), ∀ a, (k3_off527 i v276 v282 k3_t132) a + S1x16.size a ≤ S256x128.size a) ∧
  (∀ k3_t132 : Fin (k3_t132_loop i v276 v282).trips, ∀ (k3_h66 : k3_cond66 i v276 v282 = 1#1), ∀ a, (k3_off528 i v276 v282 k3_t132) a + S1x16.size a ≤ S256x128.size a) ∧
  (∀ k3_t132 : Fin (k3_t132_loop i v276 v282).trips, ∀ (k3_h66 : k3_cond66 i v276 v282 = 1#1), ∀ a, (k3_off529 i v276 v282 k3_t132) a + S1x16.size a ≤ S256x128.size a) ∧
  (∀ k3_t132 : Fin (k3_t132_loop i v276 v282).trips, ∀ (k3_h66 : k3_cond66 i v276 v282 = 1#1), ∀ a, (k3_off530 i v276 v282 k3_t132) a + S1x16.size a ≤ S256x128.size a) ∧
  (∀ (k3_h98 : k3_cond98 i v276 v282 = 1#1), (k3_t195_loop i v276 v282).OK) ∧
  (∀ k3_t195 : Fin (k3_t195_loop i v276 v282).trips, ∀ (k3_h98 : k3_cond98 i v276 v282 = 1#1), ∀ a, (k3_off779 i v276 v282 k3_t195) a + S1x16.size a ≤ S256x128.size a)
def k3_chk2_1 (i : grid3.Coords) (v276 : BitVec 32) (v282 : BitVec 32) : Prop :=
  (∀ k3_t195 : Fin (k3_t195_loop i v276 v282).trips, ∀ (k3_h98 : k3_cond98 i v276 v282 = 1#1), ∀ a, (k3_off780 i v276 v282 k3_t195) a + S1x16.size a ≤ S256x128.size a) ∧
  (∀ k3_t195 : Fin (k3_t195_loop i v276 v282).trips, ∀ (k3_h98 : k3_cond98 i v276 v282 = 1#1), ∀ a, (k3_off781 i v276 v282 k3_t195) a + S1x16.size a ≤ S256x128.size a) ∧
  (∀ k3_t195 : Fin (k3_t195_loop i v276 v282).trips, ∀ (k3_h98 : k3_cond98 i v276 v282 = 1#1), ∀ a, (k3_off782 i v276 v282 k3_t195) a + S1x16.size a ≤ S256x128.size a) ∧
  (∀ (k3_h98 : k3_cond98 i v276 v282 = 1#1), (k3_t196_loop i v276 v282).OK) ∧
  (∀ k3_t196 : Fin (k3_t196_loop i v276 v282).trips, ∀ (k3_h98 : k3_cond98 i v276 v282 = 1#1), ∀ a, (k3_off783 i v276 v282 k3_t196) a + S1x16.size a ≤ S256x128.size a) ∧
  (∀ k3_t196 : Fin (k3_t196_loop i v276 v282).trips, ∀ (k3_h98 : k3_cond98 i v276 v282 = 1#1), ∀ a, (k3_off784 i v276 v282 k3_t196) a + S1x16.size a ≤ S256x128.size a) ∧
  (∀ k3_t196 : Fin (k3_t196_loop i v276 v282).trips, ∀ (k3_h98 : k3_cond98 i v276 v282 = 1#1), ∀ a, (k3_off785 i v276 v282 k3_t196) a + S1x16.size a ≤ S256x128.size a) ∧
  (∀ k3_t196 : Fin (k3_t196_loop i v276 v282).trips, ∀ (k3_h98 : k3_cond98 i v276 v282 = 1#1), ∀ a, (k3_off786 i v276 v282 k3_t196) a + S1x16.size a ≤ S256x128.size a)
def k3_chk2 (i : grid3.Coords) (v276 : BitVec 32) (v282 : BitVec 32) : Prop :=
  k3_chk2_0 i v276 v282 ∧
  k3_chk2_1 i v276 v282
theorem k3_t3_ok : ∀ (i : grid3.Coords) (v276 : BitVec 32) (v282 : BitVec 32) (k3_hw2 : k3_chk2 i v276 v282), ∀ (k3_h2 : k3_cond2 i v276 v282 = 1#1), (k3_t3_loop i v276 v282).OK := fun i v276 v282 k3_hw2 k3_h2 => k3_hw2.1.1 k3_h2
theorem k3_off10_inb : ∀ (i : grid3.Coords) (v276 : BitVec 32) (v282 : BitVec 32) (k3_hw2 : k3_chk2 i v276 v282) (k3_t3 : Fin (k3_t3_loop i v276 v282).trips), ∀ (k3_h2 : k3_cond2 i v276 v282 = 1#1), ∀ a, (k3_off10 i v276 v282 k3_t3) a + S1x16.size a ≤ S256x128.size a := fun i v276 v282 k3_hw2 k3_t3 k3_h2 => k3_hw2.1.2.1 k3_t3 k3_h2
theorem k3_off11_inb : ∀ (i : grid3.Coords) (v276 : BitVec 32) (v282 : BitVec 32) (k3_hw2 : k3_chk2 i v276 v282) (k3_t3 : Fin (k3_t3_loop i v276 v282).trips), ∀ (k3_h2 : k3_cond2 i v276 v282 = 1#1), ∀ a, (k3_off11 i v276 v282 k3_t3) a + S1x16.size a ≤ S256x128.size a := fun i v276 v282 k3_hw2 k3_t3 k3_h2 => k3_hw2.1.2.2.1 k3_t3 k3_h2
theorem k3_off12_inb : ∀ (i : grid3.Coords) (v276 : BitVec 32) (v282 : BitVec 32) (k3_hw2 : k3_chk2 i v276 v282) (k3_t3 : Fin (k3_t3_loop i v276 v282).trips), ∀ (k3_h2 : k3_cond2 i v276 v282 = 1#1), ∀ a, (k3_off12 i v276 v282 k3_t3) a + S1x16.size a ≤ S256x128.size a := fun i v276 v282 k3_hw2 k3_t3 k3_h2 => k3_hw2.1.2.2.2.1 k3_t3 k3_h2
theorem k3_off13_inb : ∀ (i : grid3.Coords) (v276 : BitVec 32) (v282 : BitVec 32) (k3_hw2 : k3_chk2 i v276 v282) (k3_t3 : Fin (k3_t3_loop i v276 v282).trips), ∀ (k3_h2 : k3_cond2 i v276 v282 = 1#1), ∀ a, (k3_off13 i v276 v282 k3_t3) a + S1x16.size a ≤ S256x128.size a := fun i v276 v282 k3_hw2 k3_t3 k3_h2 => k3_hw2.1.2.2.2.2.1 k3_t3 k3_h2
theorem k3_t4_ok : ∀ (i : grid3.Coords) (v276 : BitVec 32) (v282 : BitVec 32) (k3_hw2 : k3_chk2 i v276 v282), ∀ (k3_h2 : k3_cond2 i v276 v282 = 1#1), (k3_t4_loop i v276 v282).OK := fun i v276 v282 k3_hw2 k3_h2 => k3_hw2.1.2.2.2.2.2.1 k3_h2
theorem k3_off14_inb : ∀ (i : grid3.Coords) (v276 : BitVec 32) (v282 : BitVec 32) (k3_hw2 : k3_chk2 i v276 v282) (k3_t4 : Fin (k3_t4_loop i v276 v282).trips), ∀ (k3_h2 : k3_cond2 i v276 v282 = 1#1), ∀ a, (k3_off14 i v276 v282 k3_t4) a + S1x16.size a ≤ S256x128.size a := fun i v276 v282 k3_hw2 k3_t4 k3_h2 => k3_hw2.1.2.2.2.2.2.2.1 k3_t4 k3_h2
theorem k3_off15_inb : ∀ (i : grid3.Coords) (v276 : BitVec 32) (v282 : BitVec 32) (k3_hw2 : k3_chk2 i v276 v282) (k3_t4 : Fin (k3_t4_loop i v276 v282).trips), ∀ (k3_h2 : k3_cond2 i v276 v282 = 1#1), ∀ a, (k3_off15 i v276 v282 k3_t4) a + S1x16.size a ≤ S256x128.size a := fun i v276 v282 k3_hw2 k3_t4 k3_h2 => k3_hw2.1.2.2.2.2.2.2.2.1 k3_t4 k3_h2
theorem k3_off16_inb : ∀ (i : grid3.Coords) (v276 : BitVec 32) (v282 : BitVec 32) (k3_hw2 : k3_chk2 i v276 v282) (k3_t4 : Fin (k3_t4_loop i v276 v282).trips), ∀ (k3_h2 : k3_cond2 i v276 v282 = 1#1), ∀ a, (k3_off16 i v276 v282 k3_t4) a + S1x16.size a ≤ S256x128.size a := fun i v276 v282 k3_hw2 k3_t4 k3_h2 => k3_hw2.1.2.2.2.2.2.2.2.2.1 k3_t4 k3_h2
theorem k3_off17_inb : ∀ (i : grid3.Coords) (v276 : BitVec 32) (v282 : BitVec 32) (k3_hw2 : k3_chk2 i v276 v282) (k3_t4 : Fin (k3_t4_loop i v276 v282).trips), ∀ (k3_h2 : k3_cond2 i v276 v282 = 1#1), ∀ a, (k3_off17 i v276 v282 k3_t4) a + S1x16.size a ≤ S256x128.size a := fun i v276 v282 k3_hw2 k3_t4 k3_h2 => k3_hw2.1.2.2.2.2.2.2.2.2.2.1 k3_t4 k3_h2
theorem k3_t67_ok : ∀ (i : grid3.Coords) (v276 : BitVec 32) (v282 : BitVec 32) (k3_hw2 : k3_chk2 i v276 v282), ∀ (k3_h34 : k3_cond34 i v276 v282 = 1#1), (k3_t67_loop i v276 v282).OK := fun i v276 v282 k3_hw2 k3_h34 => k3_hw2.1.2.2.2.2.2.2.2.2.2.2.1 k3_h34
theorem k3_off267_inb : ∀ (i : grid3.Coords) (v276 : BitVec 32) (v282 : BitVec 32) (k3_hw2 : k3_chk2 i v276 v282) (k3_t67 : Fin (k3_t67_loop i v276 v282).trips), ∀ (k3_h34 : k3_cond34 i v276 v282 = 1#1), ∀ a, (k3_off267 i v276 v282 k3_t67) a + S1x16.size a ≤ S256x128.size a := fun i v276 v282 k3_hw2 k3_t67 k3_h34 => k3_hw2.1.2.2.2.2.2.2.2.2.2.2.2.1 k3_t67 k3_h34
theorem k3_off268_inb : ∀ (i : grid3.Coords) (v276 : BitVec 32) (v282 : BitVec 32) (k3_hw2 : k3_chk2 i v276 v282) (k3_t67 : Fin (k3_t67_loop i v276 v282).trips), ∀ (k3_h34 : k3_cond34 i v276 v282 = 1#1), ∀ a, (k3_off268 i v276 v282 k3_t67) a + S1x16.size a ≤ S256x128.size a := fun i v276 v282 k3_hw2 k3_t67 k3_h34 => k3_hw2.1.2.2.2.2.2.2.2.2.2.2.2.2.1 k3_t67 k3_h34
theorem k3_off269_inb : ∀ (i : grid3.Coords) (v276 : BitVec 32) (v282 : BitVec 32) (k3_hw2 : k3_chk2 i v276 v282) (k3_t67 : Fin (k3_t67_loop i v276 v282).trips), ∀ (k3_h34 : k3_cond34 i v276 v282 = 1#1), ∀ a, (k3_off269 i v276 v282 k3_t67) a + S1x16.size a ≤ S256x128.size a := fun i v276 v282 k3_hw2 k3_t67 k3_h34 => k3_hw2.1.2.2.2.2.2.2.2.2.2.2.2.2.2.1 k3_t67 k3_h34
theorem k3_off270_inb : ∀ (i : grid3.Coords) (v276 : BitVec 32) (v282 : BitVec 32) (k3_hw2 : k3_chk2 i v276 v282) (k3_t67 : Fin (k3_t67_loop i v276 v282).trips), ∀ (k3_h34 : k3_cond34 i v276 v282 = 1#1), ∀ a, (k3_off270 i v276 v282 k3_t67) a + S1x16.size a ≤ S256x128.size a := fun i v276 v282 k3_hw2 k3_t67 k3_h34 => k3_hw2.1.2.2.2.2.2.2.2.2.2.2.2.2.2.2.1 k3_t67 k3_h34
theorem k3_t68_ok : ∀ (i : grid3.Coords) (v276 : BitVec 32) (v282 : BitVec 32) (k3_hw2 : k3_chk2 i v276 v282), ∀ (k3_h34 : k3_cond34 i v276 v282 = 1#1), (k3_t68_loop i v276 v282).OK := fun i v276 v282 k3_hw2 k3_h34 => k3_hw2.1.2.2.2.2.2.2.2.2.2.2.2.2.2.2.2.1 k3_h34
theorem k3_off271_inb : ∀ (i : grid3.Coords) (v276 : BitVec 32) (v282 : BitVec 32) (k3_hw2 : k3_chk2 i v276 v282) (k3_t68 : Fin (k3_t68_loop i v276 v282).trips), ∀ (k3_h34 : k3_cond34 i v276 v282 = 1#1), ∀ a, (k3_off271 i v276 v282 k3_t68) a + S1x16.size a ≤ S256x128.size a := fun i v276 v282 k3_hw2 k3_t68 k3_h34 => k3_hw2.1.2.2.2.2.2.2.2.2.2.2.2.2.2.2.2.2.1 k3_t68 k3_h34
theorem k3_off272_inb : ∀ (i : grid3.Coords) (v276 : BitVec 32) (v282 : BitVec 32) (k3_hw2 : k3_chk2 i v276 v282) (k3_t68 : Fin (k3_t68_loop i v276 v282).trips), ∀ (k3_h34 : k3_cond34 i v276 v282 = 1#1), ∀ a, (k3_off272 i v276 v282 k3_t68) a + S1x16.size a ≤ S256x128.size a := fun i v276 v282 k3_hw2 k3_t68 k3_h34 => k3_hw2.1.2.2.2.2.2.2.2.2.2.2.2.2.2.2.2.2.2.1 k3_t68 k3_h34
theorem k3_off273_inb : ∀ (i : grid3.Coords) (v276 : BitVec 32) (v282 : BitVec 32) (k3_hw2 : k3_chk2 i v276 v282) (k3_t68 : Fin (k3_t68_loop i v276 v282).trips), ∀ (k3_h34 : k3_cond34 i v276 v282 = 1#1), ∀ a, (k3_off273 i v276 v282 k3_t68) a + S1x16.size a ≤ S256x128.size a := fun i v276 v282 k3_hw2 k3_t68 k3_h34 => k3_hw2.1.2.2.2.2.2.2.2.2.2.2.2.2.2.2.2.2.2.2.1 k3_t68 k3_h34
theorem k3_off274_inb : ∀ (i : grid3.Coords) (v276 : BitVec 32) (v282 : BitVec 32) (k3_hw2 : k3_chk2 i v276 v282) (k3_t68 : Fin (k3_t68_loop i v276 v282).trips), ∀ (k3_h34 : k3_cond34 i v276 v282 = 1#1), ∀ a, (k3_off274 i v276 v282 k3_t68) a + S1x16.size a ≤ S256x128.size a := fun i v276 v282 k3_hw2 k3_t68 k3_h34 => k3_hw2.1.2.2.2.2.2.2.2.2.2.2.2.2.2.2.2.2.2.2.2.1 k3_t68 k3_h34
theorem k3_t131_ok : ∀ (i : grid3.Coords) (v276 : BitVec 32) (v282 : BitVec 32) (k3_hw2 : k3_chk2 i v276 v282), ∀ (k3_h66 : k3_cond66 i v276 v282 = 1#1), (k3_t131_loop i v276 v282).OK := fun i v276 v282 k3_hw2 k3_h66 => k3_hw2.1.2.2.2.2.2.2.2.2.2.2.2.2.2.2.2.2.2.2.2.2.1 k3_h66
theorem k3_off523_inb : ∀ (i : grid3.Coords) (v276 : BitVec 32) (v282 : BitVec 32) (k3_hw2 : k3_chk2 i v276 v282) (k3_t131 : Fin (k3_t131_loop i v276 v282).trips), ∀ (k3_h66 : k3_cond66 i v276 v282 = 1#1), ∀ a, (k3_off523 i v276 v282 k3_t131) a + S1x16.size a ≤ S256x128.size a := fun i v276 v282 k3_hw2 k3_t131 k3_h66 => k3_hw2.1.2.2.2.2.2.2.2.2.2.2.2.2.2.2.2.2.2.2.2.2.2.1 k3_t131 k3_h66
theorem k3_off524_inb : ∀ (i : grid3.Coords) (v276 : BitVec 32) (v282 : BitVec 32) (k3_hw2 : k3_chk2 i v276 v282) (k3_t131 : Fin (k3_t131_loop i v276 v282).trips), ∀ (k3_h66 : k3_cond66 i v276 v282 = 1#1), ∀ a, (k3_off524 i v276 v282 k3_t131) a + S1x16.size a ≤ S256x128.size a := fun i v276 v282 k3_hw2 k3_t131 k3_h66 => k3_hw2.1.2.2.2.2.2.2.2.2.2.2.2.2.2.2.2.2.2.2.2.2.2.2.1 k3_t131 k3_h66
theorem k3_off525_inb : ∀ (i : grid3.Coords) (v276 : BitVec 32) (v282 : BitVec 32) (k3_hw2 : k3_chk2 i v276 v282) (k3_t131 : Fin (k3_t131_loop i v276 v282).trips), ∀ (k3_h66 : k3_cond66 i v276 v282 = 1#1), ∀ a, (k3_off525 i v276 v282 k3_t131) a + S1x16.size a ≤ S256x128.size a := fun i v276 v282 k3_hw2 k3_t131 k3_h66 => k3_hw2.1.2.2.2.2.2.2.2.2.2.2.2.2.2.2.2.2.2.2.2.2.2.2.2.1 k3_t131 k3_h66
theorem k3_off526_inb : ∀ (i : grid3.Coords) (v276 : BitVec 32) (v282 : BitVec 32) (k3_hw2 : k3_chk2 i v276 v282) (k3_t131 : Fin (k3_t131_loop i v276 v282).trips), ∀ (k3_h66 : k3_cond66 i v276 v282 = 1#1), ∀ a, (k3_off526 i v276 v282 k3_t131) a + S1x16.size a ≤ S256x128.size a := fun i v276 v282 k3_hw2 k3_t131 k3_h66 => k3_hw2.1.2.2.2.2.2.2.2.2.2.2.2.2.2.2.2.2.2.2.2.2.2.2.2.2.1 k3_t131 k3_h66
theorem k3_t132_ok : ∀ (i : grid3.Coords) (v276 : BitVec 32) (v282 : BitVec 32) (k3_hw2 : k3_chk2 i v276 v282), ∀ (k3_h66 : k3_cond66 i v276 v282 = 1#1), (k3_t132_loop i v276 v282).OK := fun i v276 v282 k3_hw2 k3_h66 => k3_hw2.1.2.2.2.2.2.2.2.2.2.2.2.2.2.2.2.2.2.2.2.2.2.2.2.2.2.1 k3_h66
theorem k3_off527_inb : ∀ (i : grid3.Coords) (v276 : BitVec 32) (v282 : BitVec 32) (k3_hw2 : k3_chk2 i v276 v282) (k3_t132 : Fin (k3_t132_loop i v276 v282).trips), ∀ (k3_h66 : k3_cond66 i v276 v282 = 1#1), ∀ a, (k3_off527 i v276 v282 k3_t132) a + S1x16.size a ≤ S256x128.size a := fun i v276 v282 k3_hw2 k3_t132 k3_h66 => k3_hw2.1.2.2.2.2.2.2.2.2.2.2.2.2.2.2.2.2.2.2.2.2.2.2.2.2.2.2.1 k3_t132 k3_h66
theorem k3_off528_inb : ∀ (i : grid3.Coords) (v276 : BitVec 32) (v282 : BitVec 32) (k3_hw2 : k3_chk2 i v276 v282) (k3_t132 : Fin (k3_t132_loop i v276 v282).trips), ∀ (k3_h66 : k3_cond66 i v276 v282 = 1#1), ∀ a, (k3_off528 i v276 v282 k3_t132) a + S1x16.size a ≤ S256x128.size a := fun i v276 v282 k3_hw2 k3_t132 k3_h66 => k3_hw2.1.2.2.2.2.2.2.2.2.2.2.2.2.2.2.2.2.2.2.2.2.2.2.2.2.2.2.2.1 k3_t132 k3_h66
theorem k3_off529_inb : ∀ (i : grid3.Coords) (v276 : BitVec 32) (v282 : BitVec 32) (k3_hw2 : k3_chk2 i v276 v282) (k3_t132 : Fin (k3_t132_loop i v276 v282).trips), ∀ (k3_h66 : k3_cond66 i v276 v282 = 1#1), ∀ a, (k3_off529 i v276 v282 k3_t132) a + S1x16.size a ≤ S256x128.size a := fun i v276 v282 k3_hw2 k3_t132 k3_h66 => k3_hw2.1.2.2.2.2.2.2.2.2.2.2.2.2.2.2.2.2.2.2.2.2.2.2.2.2.2.2.2.2.1 k3_t132 k3_h66
theorem k3_off530_inb : ∀ (i : grid3.Coords) (v276 : BitVec 32) (v282 : BitVec 32) (k3_hw2 : k3_chk2 i v276 v282) (k3_t132 : Fin (k3_t132_loop i v276 v282).trips), ∀ (k3_h66 : k3_cond66 i v276 v282 = 1#1), ∀ a, (k3_off530 i v276 v282 k3_t132) a + S1x16.size a ≤ S256x128.size a := fun i v276 v282 k3_hw2 k3_t132 k3_h66 => k3_hw2.1.2.2.2.2.2.2.2.2.2.2.2.2.2.2.2.2.2.2.2.2.2.2.2.2.2.2.2.2.2.1 k3_t132 k3_h66
theorem k3_t195_ok : ∀ (i : grid3.Coords) (v276 : BitVec 32) (v282 : BitVec 32) (k3_hw2 : k3_chk2 i v276 v282), ∀ (k3_h98 : k3_cond98 i v276 v282 = 1#1), (k3_t195_loop i v276 v282).OK := fun i v276 v282 k3_hw2 k3_h98 => k3_hw2.1.2.2.2.2.2.2.2.2.2.2.2.2.2.2.2.2.2.2.2.2.2.2.2.2.2.2.2.2.2.2.1 k3_h98
theorem k3_off779_inb : ∀ (i : grid3.Coords) (v276 : BitVec 32) (v282 : BitVec 32) (k3_hw2 : k3_chk2 i v276 v282) (k3_t195 : Fin (k3_t195_loop i v276 v282).trips), ∀ (k3_h98 : k3_cond98 i v276 v282 = 1#1), ∀ a, (k3_off779 i v276 v282 k3_t195) a + S1x16.size a ≤ S256x128.size a := fun i v276 v282 k3_hw2 k3_t195 k3_h98 => k3_hw2.1.2.2.2.2.2.2.2.2.2.2.2.2.2.2.2.2.2.2.2.2.2.2.2.2.2.2.2.2.2.2.2 k3_t195 k3_h98
theorem k3_off780_inb : ∀ (i : grid3.Coords) (v276 : BitVec 32) (v282 : BitVec 32) (k3_hw2 : k3_chk2 i v276 v282) (k3_t195 : Fin (k3_t195_loop i v276 v282).trips), ∀ (k3_h98 : k3_cond98 i v276 v282 = 1#1), ∀ a, (k3_off780 i v276 v282 k3_t195) a + S1x16.size a ≤ S256x128.size a := fun i v276 v282 k3_hw2 k3_t195 k3_h98 => k3_hw2.2.1 k3_t195 k3_h98
theorem k3_off781_inb : ∀ (i : grid3.Coords) (v276 : BitVec 32) (v282 : BitVec 32) (k3_hw2 : k3_chk2 i v276 v282) (k3_t195 : Fin (k3_t195_loop i v276 v282).trips), ∀ (k3_h98 : k3_cond98 i v276 v282 = 1#1), ∀ a, (k3_off781 i v276 v282 k3_t195) a + S1x16.size a ≤ S256x128.size a := fun i v276 v282 k3_hw2 k3_t195 k3_h98 => k3_hw2.2.2.1 k3_t195 k3_h98
theorem k3_off782_inb : ∀ (i : grid3.Coords) (v276 : BitVec 32) (v282 : BitVec 32) (k3_hw2 : k3_chk2 i v276 v282) (k3_t195 : Fin (k3_t195_loop i v276 v282).trips), ∀ (k3_h98 : k3_cond98 i v276 v282 = 1#1), ∀ a, (k3_off782 i v276 v282 k3_t195) a + S1x16.size a ≤ S256x128.size a := fun i v276 v282 k3_hw2 k3_t195 k3_h98 => k3_hw2.2.2.2.1 k3_t195 k3_h98
theorem k3_t196_ok : ∀ (i : grid3.Coords) (v276 : BitVec 32) (v282 : BitVec 32) (k3_hw2 : k3_chk2 i v276 v282), ∀ (k3_h98 : k3_cond98 i v276 v282 = 1#1), (k3_t196_loop i v276 v282).OK := fun i v276 v282 k3_hw2 k3_h98 => k3_hw2.2.2.2.2.1 k3_h98
theorem k3_off783_inb : ∀ (i : grid3.Coords) (v276 : BitVec 32) (v282 : BitVec 32) (k3_hw2 : k3_chk2 i v276 v282) (k3_t196 : Fin (k3_t196_loop i v276 v282).trips), ∀ (k3_h98 : k3_cond98 i v276 v282 = 1#1), ∀ a, (k3_off783 i v276 v282 k3_t196) a + S1x16.size a ≤ S256x128.size a := fun i v276 v282 k3_hw2 k3_t196 k3_h98 => k3_hw2.2.2.2.2.2.1 k3_t196 k3_h98
theorem k3_off784_inb : ∀ (i : grid3.Coords) (v276 : BitVec 32) (v282 : BitVec 32) (k3_hw2 : k3_chk2 i v276 v282) (k3_t196 : Fin (k3_t196_loop i v276 v282).trips), ∀ (k3_h98 : k3_cond98 i v276 v282 = 1#1), ∀ a, (k3_off784 i v276 v282 k3_t196) a + S1x16.size a ≤ S256x128.size a := fun i v276 v282 k3_hw2 k3_t196 k3_h98 => k3_hw2.2.2.2.2.2.2.1 k3_t196 k3_h98
theorem k3_off785_inb : ∀ (i : grid3.Coords) (v276 : BitVec 32) (v282 : BitVec 32) (k3_hw2 : k3_chk2 i v276 v282) (k3_t196 : Fin (k3_t196_loop i v276 v282).trips), ∀ (k3_h98 : k3_cond98 i v276 v282 = 1#1), ∀ a, (k3_off785 i v276 v282 k3_t196) a + S1x16.size a ≤ S256x128.size a := fun i v276 v282 k3_hw2 k3_t196 k3_h98 => k3_hw2.2.2.2.2.2.2.2.1 k3_t196 k3_h98
theorem k3_off786_inb : ∀ (i : grid3.Coords) (v276 : BitVec 32) (v282 : BitVec 32) (k3_hw2 : k3_chk2 i v276 v282) (k3_t196 : Fin (k3_t196_loop i v276 v282).trips), ∀ (k3_h98 : k3_cond98 i v276 v282 = 1#1), ∀ a, (k3_off786 i v276 v282 k3_t196) a + S1x16.size a ≤ S256x128.size a := fun i v276 v282 k3_hw2 k3_t196 k3_h98 => k3_hw2.2.2.2.2.2.2.2.2 k3_t196 k3_h98

@[reducible] def k3_t197_loop (i : grid3.Coords) (v288 : BitVec 32) (v293 : BitVec 32) : Scf.Loop 32 :=
  let c256_i32_979 : BitVec 32 := 256#32
  let c0_i32_978 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let c256_i32_982 : BitVec 32 := 256#32
  let c0_i32_981 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c768_i32_980 : BitVec 32 := 768#32
  let v1526 : BitVec 32 := Scalar.subi v296 c768_i32_980
  let v1527 : BitVec 32 := Scalar.maxsi c0_i32_981 v1526
  let v1528 : BitVec 32 := Scalar.minsi c256_i32_982 v1527
  let v1805 : BitVec 32 := Scalar.subi v1528 v1525
  let c1_i32_1195 : BitVec 32 := 1#32
  let v1807 : BitVec 32 := Scalar.divsi v1805 c1_i32_1195
  let v1808 : BitVec 32 := Scalar.muli v1807 c1_i32_1195
  let v1809 : BitVec 32 := Scalar.addi v1525 v1808
  let c1_i32_1196 : BitVec 32 := 1#32
  ⟨v1525, v1809, c1_i32_1196⟩
def k3_cond99 (i : grid3.Coords) (v288 : BitVec 32) (v293 : BitVec 32) : BitVec 1 :=
  let c256_i32_982 : BitVec 32 := 256#32
  let c0_i32_981 : BitVec 32 := 0#32
  let c1024_i32_123 : BitVec 32 := 1024#32
  let c0_i32_122 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v294 : BitVec 32 := Scalar.subi v293 v3
  let v295 : BitVec 32 := Scalar.maxsi c0_i32_122 v294
  let v296 : BitVec 32 := Scalar.minsi c1024_i32_123 v295
  let c768_i32_980 : BitVec 32 := 768#32
  let v1526 : BitVec 32 := Scalar.subi v296 c768_i32_980
  let v1527 : BitVec 32 := Scalar.maxsi c0_i32_981 v1526
  let v1528 : BitVec 32 := Scalar.minsi c256_i32_982 v1527
  let c256_i32_979 : BitVec 32 := 256#32
  let c0_i32_978 : BitVec 32 := 0#32
  let c1024_i32_121 : BitVec 32 := 1024#32
  let c0_i32_120 : BitVec 32 := 0#32
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let v1529 : BitVec 1 := Scalar.cmpi .sgt v1528 v1525
  let v1530 : BitVec 32 := Scalar.extui v1529
  let c0_i32_983 : BitVec 32 := 0#32
  let v1531 : BitVec 1 := Scalar.cmpi .ne v1530 c0_i32_983
  v1531

def k3_off787 (i : grid3.Coords) (v288 : BitVec 32) (v293 : BitVec 32) (k3_t197 : Fin (k3_t197_loop i v288 v293).trips) : Fin 2 → Nat :=
  let c256_i32_979 : BitVec 32 := 256#32
  let c0_i32_978 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let c1_i32_1196 : BitVec 32 := 1#32
  let arg13 : BitVec 32 := Scf.iv v1525 c1_i32_1196 k3_t197
  let v1828 : Index := Scalar.indexCast arg13
  let c0_1206 : Index := 0#32
  ![v1828.toNat, 0]
def k3_off788 (i : grid3.Coords) (v288 : BitVec 32) (v293 : BitVec 32) (k3_t197 : Fin (k3_t197_loop i v288 v293).trips) : Fin 2 → Nat :=
  let c256_i32_979 : BitVec 32 := 256#32
  let c0_i32_978 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let c1_i32_1196 : BitVec 32 := 1#32
  let arg13 : BitVec 32 := Scf.iv v1525 c1_i32_1196 k3_t197
  let v1832 : Index := Scalar.indexCast arg13
  let c16_1207 : Index := 16#32
  ![v1832.toNat, 16]
def k3_off789 (i : grid3.Coords) (v288 : BitVec 32) (v293 : BitVec 32) (k3_t197 : Fin (k3_t197_loop i v288 v293).trips) : Fin 2 → Nat :=
  let c256_i32_979 : BitVec 32 := 256#32
  let c0_i32_978 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let c1_i32_1196 : BitVec 32 := 1#32
  let arg13 : BitVec 32 := Scf.iv v1525 c1_i32_1196 k3_t197
  let v1836 : Index := Scalar.indexCast arg13
  let c32_1208 : Index := 32#32
  ![v1836.toNat, 32]
def k3_off790 (i : grid3.Coords) (v288 : BitVec 32) (v293 : BitVec 32) (k3_t197 : Fin (k3_t197_loop i v288 v293).trips) : Fin 2 → Nat :=
  let c256_i32_979 : BitVec 32 := 256#32
  let c0_i32_978 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let c1_i32_1196 : BitVec 32 := 1#32
  let arg13 : BitVec 32 := Scf.iv v1525 c1_i32_1196 k3_t197
  let v1840 : Index := Scalar.indexCast arg13
  let c48_1209 : Index := 48#32
  ![v1840.toNat, 48]
@[reducible] def k3_t198_loop (i : grid3.Coords) (v288 : BitVec 32) (v293 : BitVec 32) : Scf.Loop 32 :=
  let c256_i32_979 : BitVec 32 := 256#32
  let c0_i32_978 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let c256_i32_982 : BitVec 32 := 256#32
  let c0_i32_981 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c768_i32_980 : BitVec 32 := 768#32
  let v1526 : BitVec 32 := Scalar.subi v296 c768_i32_980
  let v1527 : BitVec 32 := Scalar.maxsi c0_i32_981 v1526
  let v1528 : BitVec 32 := Scalar.minsi c256_i32_982 v1527
  let v1805 : BitVec 32 := Scalar.subi v1528 v1525
  let c1_i32_1195 : BitVec 32 := 1#32
  let v1807 : BitVec 32 := Scalar.divsi v1805 c1_i32_1195
  let v1808 : BitVec 32 := Scalar.muli v1807 c1_i32_1195
  let v1809 : BitVec 32 := Scalar.addi v1525 v1808
  let v1806 : BitVec 32 := Scalar.addi v1525 v1805
  let c1_i32_1197 : BitVec 32 := 1#32
  ⟨v1809, v1806, c1_i32_1197⟩
def k3_off791 (i : grid3.Coords) (v288 : BitVec 32) (v293 : BitVec 32) (k3_t198 : Fin (k3_t198_loop i v288 v293).trips) : Fin 2 → Nat :=
  let c256_i32_979 : BitVec 32 := 256#32
  let c0_i32_978 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let c256_i32_982 : BitVec 32 := 256#32
  let c0_i32_981 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c768_i32_980 : BitVec 32 := 768#32
  let v1526 : BitVec 32 := Scalar.subi v296 c768_i32_980
  let v1527 : BitVec 32 := Scalar.maxsi c0_i32_981 v1526
  let v1528 : BitVec 32 := Scalar.minsi c256_i32_982 v1527
  let v1805 : BitVec 32 := Scalar.subi v1528 v1525
  let c1_i32_1195 : BitVec 32 := 1#32
  let v1807 : BitVec 32 := Scalar.divsi v1805 c1_i32_1195
  let v1808 : BitVec 32 := Scalar.muli v1807 c1_i32_1195
  let v1809 : BitVec 32 := Scalar.addi v1525 v1808
  let c1_i32_1197 : BitVec 32 := 1#32
  let arg13 : BitVec 32 := Scf.iv v1809 c1_i32_1197 k3_t198
  let v1828 : Index := Scalar.indexCast arg13
  let c0_1206 : Index := 0#32
  ![v1828.toNat, 0]
def k3_off792 (i : grid3.Coords) (v288 : BitVec 32) (v293 : BitVec 32) (k3_t198 : Fin (k3_t198_loop i v288 v293).trips) : Fin 2 → Nat :=
  let c256_i32_979 : BitVec 32 := 256#32
  let c0_i32_978 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let c256_i32_982 : BitVec 32 := 256#32
  let c0_i32_981 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c768_i32_980 : BitVec 32 := 768#32
  let v1526 : BitVec 32 := Scalar.subi v296 c768_i32_980
  let v1527 : BitVec 32 := Scalar.maxsi c0_i32_981 v1526
  let v1528 : BitVec 32 := Scalar.minsi c256_i32_982 v1527
  let v1805 : BitVec 32 := Scalar.subi v1528 v1525
  let c1_i32_1195 : BitVec 32 := 1#32
  let v1807 : BitVec 32 := Scalar.divsi v1805 c1_i32_1195
  let v1808 : BitVec 32 := Scalar.muli v1807 c1_i32_1195
  let v1809 : BitVec 32 := Scalar.addi v1525 v1808
  let c1_i32_1197 : BitVec 32 := 1#32
  let arg13 : BitVec 32 := Scf.iv v1809 c1_i32_1197 k3_t198
  let v1832 : Index := Scalar.indexCast arg13
  let c16_1207 : Index := 16#32
  ![v1832.toNat, 16]
def k3_off793 (i : grid3.Coords) (v288 : BitVec 32) (v293 : BitVec 32) (k3_t198 : Fin (k3_t198_loop i v288 v293).trips) : Fin 2 → Nat :=
  let c256_i32_979 : BitVec 32 := 256#32
  let c0_i32_978 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let c256_i32_982 : BitVec 32 := 256#32
  let c0_i32_981 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c768_i32_980 : BitVec 32 := 768#32
  let v1526 : BitVec 32 := Scalar.subi v296 c768_i32_980
  let v1527 : BitVec 32 := Scalar.maxsi c0_i32_981 v1526
  let v1528 : BitVec 32 := Scalar.minsi c256_i32_982 v1527
  let v1805 : BitVec 32 := Scalar.subi v1528 v1525
  let c1_i32_1195 : BitVec 32 := 1#32
  let v1807 : BitVec 32 := Scalar.divsi v1805 c1_i32_1195
  let v1808 : BitVec 32 := Scalar.muli v1807 c1_i32_1195
  let v1809 : BitVec 32 := Scalar.addi v1525 v1808
  let c1_i32_1197 : BitVec 32 := 1#32
  let arg13 : BitVec 32 := Scf.iv v1809 c1_i32_1197 k3_t198
  let v1836 : Index := Scalar.indexCast arg13
  let c32_1208 : Index := 32#32
  ![v1836.toNat, 32]
def k3_off794 (i : grid3.Coords) (v288 : BitVec 32) (v293 : BitVec 32) (k3_t198 : Fin (k3_t198_loop i v288 v293).trips) : Fin 2 → Nat :=
  let c256_i32_979 : BitVec 32 := 256#32
  let c0_i32_978 : BitVec 32 := 0#32
  let c1024_i32_121 : BitVec 32 := 1024#32
  let c0_i32_120 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v289 : BitVec 32 := Scalar.subi v288 v3
  let v290 : BitVec 32 := Scalar.maxsi c0_i32_120 v289
  let v291 : BitVec 32 := Scalar.minsi c1024_i32_121 v290
  let c768_i32_977 : BitVec 32 := 768#32
  let v1523 : BitVec 32 := Scalar.subi v291 c768_i32_977
  let v1524 : BitVec 32 := Scalar.maxsi c0_i32_978 v1523
  let v1525 : BitVec 32 := Scalar.minsi c256_i32_979 v1524
  let c256_i32_982 : BitVec 32 := 256#32
  let c0_i32_981 : BitVec 32 := 0#32
  let c1024_i32_123 : BitVec 32 := 1024#32
  let c0_i32_122 : BitVec 32 := 0#32
  let v294 : BitVec 32 := Scalar.subi v293 v3
  let v295 : BitVec 32 := Scalar.maxsi c0_i32_122 v294
  let v296 : BitVec 32 := Scalar.minsi c1024_i32_123 v295
  let c768_i32_980 : BitVec 32 := 768#32
  let v1526 : BitVec 32 := Scalar.subi v296 c768_i32_980
  let v1527 : BitVec 32 := Scalar.maxsi c0_i32_981 v1526
  let v1528 : BitVec 32 := Scalar.minsi c256_i32_982 v1527
  let v1805 : BitVec 32 := Scalar.subi v1528 v1525
  let c1_i32_1195 : BitVec 32 := 1#32
  let v1807 : BitVec 32 := Scalar.divsi v1805 c1_i32_1195
  let v1808 : BitVec 32 := Scalar.muli v1807 c1_i32_1195
  let v1809 : BitVec 32 := Scalar.addi v1525 v1808
  let c1_i32_1197 : BitVec 32 := 1#32
  let arg13 : BitVec 32 := Scf.iv v1809 c1_i32_1197 k3_t198
  let v1840 : Index := Scalar.indexCast arg13
  let c48_1209 : Index := 48#32
  ![v1840.toNat, 48]

def k3_chk3_0 (i : grid3.Coords) (v288 : BitVec 32) (v293 : BitVec 32) : Prop :=
  (∀ (k3_h3 : k3_cond3 i v288 v293 = 1#1), (k3_t5_loop i v288 v293).OK) ∧
  (∀ k3_t5 : Fin (k3_t5_loop i v288 v293).trips, ∀ (k3_h3 : k3_cond3 i v288 v293 = 1#1), ∀ a, (k3_off18 i v288 v293 k3_t5) a + S1x16.size a ≤ S256x128.size a) ∧
  (∀ k3_t5 : Fin (k3_t5_loop i v288 v293).trips, ∀ (k3_h3 : k3_cond3 i v288 v293 = 1#1), ∀ a, (k3_off19 i v288 v293 k3_t5) a + S1x16.size a ≤ S256x128.size a) ∧
  (∀ k3_t5 : Fin (k3_t5_loop i v288 v293).trips, ∀ (k3_h3 : k3_cond3 i v288 v293 = 1#1), ∀ a, (k3_off20 i v288 v293 k3_t5) a + S1x16.size a ≤ S256x128.size a) ∧
  (∀ k3_t5 : Fin (k3_t5_loop i v288 v293).trips, ∀ (k3_h3 : k3_cond3 i v288 v293 = 1#1), ∀ a, (k3_off21 i v288 v293 k3_t5) a + S1x16.size a ≤ S256x128.size a) ∧
  (∀ (k3_h3 : k3_cond3 i v288 v293 = 1#1), (k3_t6_loop i v288 v293).OK) ∧
  (∀ k3_t6 : Fin (k3_t6_loop i v288 v293).trips, ∀ (k3_h3 : k3_cond3 i v288 v293 = 1#1), ∀ a, (k3_off22 i v288 v293 k3_t6) a + S1x16.size a ≤ S256x128.size a) ∧
  (∀ k3_t6 : Fin (k3_t6_loop i v288 v293).trips, ∀ (k3_h3 : k3_cond3 i v288 v293 = 1#1), ∀ a, (k3_off23 i v288 v293 k3_t6) a + S1x16.size a ≤ S256x128.size a) ∧
  (∀ k3_t6 : Fin (k3_t6_loop i v288 v293).trips, ∀ (k3_h3 : k3_cond3 i v288 v293 = 1#1), ∀ a, (k3_off24 i v288 v293 k3_t6) a + S1x16.size a ≤ S256x128.size a) ∧
  (∀ k3_t6 : Fin (k3_t6_loop i v288 v293).trips, ∀ (k3_h3 : k3_cond3 i v288 v293 = 1#1), ∀ a, (k3_off25 i v288 v293 k3_t6) a + S1x16.size a ≤ S256x128.size a) ∧
  (∀ (k3_h35 : k3_cond35 i v288 v293 = 1#1), (k3_t69_loop i v288 v293).OK) ∧
  (∀ k3_t69 : Fin (k3_t69_loop i v288 v293).trips, ∀ (k3_h35 : k3_cond35 i v288 v293 = 1#1), ∀ a, (k3_off275 i v288 v293 k3_t69) a + S1x16.size a ≤ S256x128.size a) ∧
  (∀ k3_t69 : Fin (k3_t69_loop i v288 v293).trips, ∀ (k3_h35 : k3_cond35 i v288 v293 = 1#1), ∀ a, (k3_off276 i v288 v293 k3_t69) a + S1x16.size a ≤ S256x128.size a) ∧
  (∀ k3_t69 : Fin (k3_t69_loop i v288 v293).trips, ∀ (k3_h35 : k3_cond35 i v288 v293 = 1#1), ∀ a, (k3_off277 i v288 v293 k3_t69) a + S1x16.size a ≤ S256x128.size a) ∧
  (∀ k3_t69 : Fin (k3_t69_loop i v288 v293).trips, ∀ (k3_h35 : k3_cond35 i v288 v293 = 1#1), ∀ a, (k3_off278 i v288 v293 k3_t69) a + S1x16.size a ≤ S256x128.size a) ∧
  (∀ (k3_h35 : k3_cond35 i v288 v293 = 1#1), (k3_t70_loop i v288 v293).OK) ∧
  (∀ k3_t70 : Fin (k3_t70_loop i v288 v293).trips, ∀ (k3_h35 : k3_cond35 i v288 v293 = 1#1), ∀ a, (k3_off279 i v288 v293 k3_t70) a + S1x16.size a ≤ S256x128.size a) ∧
  (∀ k3_t70 : Fin (k3_t70_loop i v288 v293).trips, ∀ (k3_h35 : k3_cond35 i v288 v293 = 1#1), ∀ a, (k3_off280 i v288 v293 k3_t70) a + S1x16.size a ≤ S256x128.size a) ∧
  (∀ k3_t70 : Fin (k3_t70_loop i v288 v293).trips, ∀ (k3_h35 : k3_cond35 i v288 v293 = 1#1), ∀ a, (k3_off281 i v288 v293 k3_t70) a + S1x16.size a ≤ S256x128.size a) ∧
  (∀ k3_t70 : Fin (k3_t70_loop i v288 v293).trips, ∀ (k3_h35 : k3_cond35 i v288 v293 = 1#1), ∀ a, (k3_off282 i v288 v293 k3_t70) a + S1x16.size a ≤ S256x128.size a) ∧
  (∀ (k3_h67 : k3_cond67 i v288 v293 = 1#1), (k3_t133_loop i v288 v293).OK) ∧
  (∀ k3_t133 : Fin (k3_t133_loop i v288 v293).trips, ∀ (k3_h67 : k3_cond67 i v288 v293 = 1#1), ∀ a, (k3_off531 i v288 v293 k3_t133) a + S1x16.size a ≤ S256x128.size a) ∧
  (∀ k3_t133 : Fin (k3_t133_loop i v288 v293).trips, ∀ (k3_h67 : k3_cond67 i v288 v293 = 1#1), ∀ a, (k3_off532 i v288 v293 k3_t133) a + S1x16.size a ≤ S256x128.size a) ∧
  (∀ k3_t133 : Fin (k3_t133_loop i v288 v293).trips, ∀ (k3_h67 : k3_cond67 i v288 v293 = 1#1), ∀ a, (k3_off533 i v288 v293 k3_t133) a + S1x16.size a ≤ S256x128.size a) ∧
  (∀ k3_t133 : Fin (k3_t133_loop i v288 v293).trips, ∀ (k3_h67 : k3_cond67 i v288 v293 = 1#1), ∀ a, (k3_off534 i v288 v293 k3_t133) a + S1x16.size a ≤ S256x128.size a) ∧
  (∀ (k3_h67 : k3_cond67 i v288 v293 = 1#1), (k3_t134_loop i v288 v293).OK) ∧
  (∀ k3_t134 : Fin (k3_t134_loop i v288 v293).trips, ∀ (k3_h67 : k3_cond67 i v288 v293 = 1#1), ∀ a, (k3_off535 i v288 v293 k3_t134) a + S1x16.size a ≤ S256x128.size a) ∧
  (∀ k3_t134 : Fin (k3_t134_loop i v288 v293).trips, ∀ (k3_h67 : k3_cond67 i v288 v293 = 1#1), ∀ a, (k3_off536 i v288 v293 k3_t134) a + S1x16.size a ≤ S256x128.size a) ∧
  (∀ k3_t134 : Fin (k3_t134_loop i v288 v293).trips, ∀ (k3_h67 : k3_cond67 i v288 v293 = 1#1), ∀ a, (k3_off537 i v288 v293 k3_t134) a + S1x16.size a ≤ S256x128.size a) ∧
  (∀ k3_t134 : Fin (k3_t134_loop i v288 v293).trips, ∀ (k3_h67 : k3_cond67 i v288 v293 = 1#1), ∀ a, (k3_off538 i v288 v293 k3_t134) a + S1x16.size a ≤ S256x128.size a) ∧
  (∀ (k3_h99 : k3_cond99 i v288 v293 = 1#1), (k3_t197_loop i v288 v293).OK) ∧
  (∀ k3_t197 : Fin (k3_t197_loop i v288 v293).trips, ∀ (k3_h99 : k3_cond99 i v288 v293 = 1#1), ∀ a, (k3_off787 i v288 v293 k3_t197) a + S1x16.size a ≤ S256x128.size a)
def k3_chk3_1 (i : grid3.Coords) (v288 : BitVec 32) (v293 : BitVec 32) : Prop :=
  (∀ k3_t197 : Fin (k3_t197_loop i v288 v293).trips, ∀ (k3_h99 : k3_cond99 i v288 v293 = 1#1), ∀ a, (k3_off788 i v288 v293 k3_t197) a + S1x16.size a ≤ S256x128.size a) ∧
  (∀ k3_t197 : Fin (k3_t197_loop i v288 v293).trips, ∀ (k3_h99 : k3_cond99 i v288 v293 = 1#1), ∀ a, (k3_off789 i v288 v293 k3_t197) a + S1x16.size a ≤ S256x128.size a) ∧
  (∀ k3_t197 : Fin (k3_t197_loop i v288 v293).trips, ∀ (k3_h99 : k3_cond99 i v288 v293 = 1#1), ∀ a, (k3_off790 i v288 v293 k3_t197) a + S1x16.size a ≤ S256x128.size a) ∧
  (∀ (k3_h99 : k3_cond99 i v288 v293 = 1#1), (k3_t198_loop i v288 v293).OK) ∧
  (∀ k3_t198 : Fin (k3_t198_loop i v288 v293).trips, ∀ (k3_h99 : k3_cond99 i v288 v293 = 1#1), ∀ a, (k3_off791 i v288 v293 k3_t198) a + S1x16.size a ≤ S256x128.size a) ∧
  (∀ k3_t198 : Fin (k3_t198_loop i v288 v293).trips, ∀ (k3_h99 : k3_cond99 i v288 v293 = 1#1), ∀ a, (k3_off792 i v288 v293 k3_t198) a + S1x16.size a ≤ S256x128.size a) ∧
  (∀ k3_t198 : Fin (k3_t198_loop i v288 v293).trips, ∀ (k3_h99 : k3_cond99 i v288 v293 = 1#1), ∀ a, (k3_off793 i v288 v293 k3_t198) a + S1x16.size a ≤ S256x128.size a) ∧
  (∀ k3_t198 : Fin (k3_t198_loop i v288 v293).trips, ∀ (k3_h99 : k3_cond99 i v288 v293 = 1#1), ∀ a, (k3_off794 i v288 v293 k3_t198) a + S1x16.size a ≤ S256x128.size a)
def k3_chk3 (i : grid3.Coords) (v288 : BitVec 32) (v293 : BitVec 32) : Prop :=
  k3_chk3_0 i v288 v293 ∧
  k3_chk3_1 i v288 v293
theorem k3_t5_ok : ∀ (i : grid3.Coords) (v288 : BitVec 32) (v293 : BitVec 32) (k3_hw3 : k3_chk3 i v288 v293), ∀ (k3_h3 : k3_cond3 i v288 v293 = 1#1), (k3_t5_loop i v288 v293).OK := fun i v288 v293 k3_hw3 k3_h3 => k3_hw3.1.1 k3_h3
theorem k3_off18_inb : ∀ (i : grid3.Coords) (v288 : BitVec 32) (v293 : BitVec 32) (k3_hw3 : k3_chk3 i v288 v293) (k3_t5 : Fin (k3_t5_loop i v288 v293).trips), ∀ (k3_h3 : k3_cond3 i v288 v293 = 1#1), ∀ a, (k3_off18 i v288 v293 k3_t5) a + S1x16.size a ≤ S256x128.size a := fun i v288 v293 k3_hw3 k3_t5 k3_h3 => k3_hw3.1.2.1 k3_t5 k3_h3
theorem k3_off19_inb : ∀ (i : grid3.Coords) (v288 : BitVec 32) (v293 : BitVec 32) (k3_hw3 : k3_chk3 i v288 v293) (k3_t5 : Fin (k3_t5_loop i v288 v293).trips), ∀ (k3_h3 : k3_cond3 i v288 v293 = 1#1), ∀ a, (k3_off19 i v288 v293 k3_t5) a + S1x16.size a ≤ S256x128.size a := fun i v288 v293 k3_hw3 k3_t5 k3_h3 => k3_hw3.1.2.2.1 k3_t5 k3_h3
theorem k3_off20_inb : ∀ (i : grid3.Coords) (v288 : BitVec 32) (v293 : BitVec 32) (k3_hw3 : k3_chk3 i v288 v293) (k3_t5 : Fin (k3_t5_loop i v288 v293).trips), ∀ (k3_h3 : k3_cond3 i v288 v293 = 1#1), ∀ a, (k3_off20 i v288 v293 k3_t5) a + S1x16.size a ≤ S256x128.size a := fun i v288 v293 k3_hw3 k3_t5 k3_h3 => k3_hw3.1.2.2.2.1 k3_t5 k3_h3
theorem k3_off21_inb : ∀ (i : grid3.Coords) (v288 : BitVec 32) (v293 : BitVec 32) (k3_hw3 : k3_chk3 i v288 v293) (k3_t5 : Fin (k3_t5_loop i v288 v293).trips), ∀ (k3_h3 : k3_cond3 i v288 v293 = 1#1), ∀ a, (k3_off21 i v288 v293 k3_t5) a + S1x16.size a ≤ S256x128.size a := fun i v288 v293 k3_hw3 k3_t5 k3_h3 => k3_hw3.1.2.2.2.2.1 k3_t5 k3_h3
theorem k3_t6_ok : ∀ (i : grid3.Coords) (v288 : BitVec 32) (v293 : BitVec 32) (k3_hw3 : k3_chk3 i v288 v293), ∀ (k3_h3 : k3_cond3 i v288 v293 = 1#1), (k3_t6_loop i v288 v293).OK := fun i v288 v293 k3_hw3 k3_h3 => k3_hw3.1.2.2.2.2.2.1 k3_h3
theorem k3_off22_inb : ∀ (i : grid3.Coords) (v288 : BitVec 32) (v293 : BitVec 32) (k3_hw3 : k3_chk3 i v288 v293) (k3_t6 : Fin (k3_t6_loop i v288 v293).trips), ∀ (k3_h3 : k3_cond3 i v288 v293 = 1#1), ∀ a, (k3_off22 i v288 v293 k3_t6) a + S1x16.size a ≤ S256x128.size a := fun i v288 v293 k3_hw3 k3_t6 k3_h3 => k3_hw3.1.2.2.2.2.2.2.1 k3_t6 k3_h3
theorem k3_off23_inb : ∀ (i : grid3.Coords) (v288 : BitVec 32) (v293 : BitVec 32) (k3_hw3 : k3_chk3 i v288 v293) (k3_t6 : Fin (k3_t6_loop i v288 v293).trips), ∀ (k3_h3 : k3_cond3 i v288 v293 = 1#1), ∀ a, (k3_off23 i v288 v293 k3_t6) a + S1x16.size a ≤ S256x128.size a := fun i v288 v293 k3_hw3 k3_t6 k3_h3 => k3_hw3.1.2.2.2.2.2.2.2.1 k3_t6 k3_h3
theorem k3_off24_inb : ∀ (i : grid3.Coords) (v288 : BitVec 32) (v293 : BitVec 32) (k3_hw3 : k3_chk3 i v288 v293) (k3_t6 : Fin (k3_t6_loop i v288 v293).trips), ∀ (k3_h3 : k3_cond3 i v288 v293 = 1#1), ∀ a, (k3_off24 i v288 v293 k3_t6) a + S1x16.size a ≤ S256x128.size a := fun i v288 v293 k3_hw3 k3_t6 k3_h3 => k3_hw3.1.2.2.2.2.2.2.2.2.1 k3_t6 k3_h3
theorem k3_off25_inb : ∀ (i : grid3.Coords) (v288 : BitVec 32) (v293 : BitVec 32) (k3_hw3 : k3_chk3 i v288 v293) (k3_t6 : Fin (k3_t6_loop i v288 v293).trips), ∀ (k3_h3 : k3_cond3 i v288 v293 = 1#1), ∀ a, (k3_off25 i v288 v293 k3_t6) a + S1x16.size a ≤ S256x128.size a := fun i v288 v293 k3_hw3 k3_t6 k3_h3 => k3_hw3.1.2.2.2.2.2.2.2.2.2.1 k3_t6 k3_h3
theorem k3_t69_ok : ∀ (i : grid3.Coords) (v288 : BitVec 32) (v293 : BitVec 32) (k3_hw3 : k3_chk3 i v288 v293), ∀ (k3_h35 : k3_cond35 i v288 v293 = 1#1), (k3_t69_loop i v288 v293).OK := fun i v288 v293 k3_hw3 k3_h35 => k3_hw3.1.2.2.2.2.2.2.2.2.2.2.1 k3_h35
theorem k3_off275_inb : ∀ (i : grid3.Coords) (v288 : BitVec 32) (v293 : BitVec 32) (k3_hw3 : k3_chk3 i v288 v293) (k3_t69 : Fin (k3_t69_loop i v288 v293).trips), ∀ (k3_h35 : k3_cond35 i v288 v293 = 1#1), ∀ a, (k3_off275 i v288 v293 k3_t69) a + S1x16.size a ≤ S256x128.size a := fun i v288 v293 k3_hw3 k3_t69 k3_h35 => k3_hw3.1.2.2.2.2.2.2.2.2.2.2.2.1 k3_t69 k3_h35
theorem k3_off276_inb : ∀ (i : grid3.Coords) (v288 : BitVec 32) (v293 : BitVec 32) (k3_hw3 : k3_chk3 i v288 v293) (k3_t69 : Fin (k3_t69_loop i v288 v293).trips), ∀ (k3_h35 : k3_cond35 i v288 v293 = 1#1), ∀ a, (k3_off276 i v288 v293 k3_t69) a + S1x16.size a ≤ S256x128.size a := fun i v288 v293 k3_hw3 k3_t69 k3_h35 => k3_hw3.1.2.2.2.2.2.2.2.2.2.2.2.2.1 k3_t69 k3_h35
theorem k3_off277_inb : ∀ (i : grid3.Coords) (v288 : BitVec 32) (v293 : BitVec 32) (k3_hw3 : k3_chk3 i v288 v293) (k3_t69 : Fin (k3_t69_loop i v288 v293).trips), ∀ (k3_h35 : k3_cond35 i v288 v293 = 1#1), ∀ a, (k3_off277 i v288 v293 k3_t69) a + S1x16.size a ≤ S256x128.size a := fun i v288 v293 k3_hw3 k3_t69 k3_h35 => k3_hw3.1.2.2.2.2.2.2.2.2.2.2.2.2.2.1 k3_t69 k3_h35
theorem k3_off278_inb : ∀ (i : grid3.Coords) (v288 : BitVec 32) (v293 : BitVec 32) (k3_hw3 : k3_chk3 i v288 v293) (k3_t69 : Fin (k3_t69_loop i v288 v293).trips), ∀ (k3_h35 : k3_cond35 i v288 v293 = 1#1), ∀ a, (k3_off278 i v288 v293 k3_t69) a + S1x16.size a ≤ S256x128.size a := fun i v288 v293 k3_hw3 k3_t69 k3_h35 => k3_hw3.1.2.2.2.2.2.2.2.2.2.2.2.2.2.2.1 k3_t69 k3_h35
theorem k3_t70_ok : ∀ (i : grid3.Coords) (v288 : BitVec 32) (v293 : BitVec 32) (k3_hw3 : k3_chk3 i v288 v293), ∀ (k3_h35 : k3_cond35 i v288 v293 = 1#1), (k3_t70_loop i v288 v293).OK := fun i v288 v293 k3_hw3 k3_h35 => k3_hw3.1.2.2.2.2.2.2.2.2.2.2.2.2.2.2.2.1 k3_h35
theorem k3_off279_inb : ∀ (i : grid3.Coords) (v288 : BitVec 32) (v293 : BitVec 32) (k3_hw3 : k3_chk3 i v288 v293) (k3_t70 : Fin (k3_t70_loop i v288 v293).trips), ∀ (k3_h35 : k3_cond35 i v288 v293 = 1#1), ∀ a, (k3_off279 i v288 v293 k3_t70) a + S1x16.size a ≤ S256x128.size a := fun i v288 v293 k3_hw3 k3_t70 k3_h35 => k3_hw3.1.2.2.2.2.2.2.2.2.2.2.2.2.2.2.2.2.1 k3_t70 k3_h35
theorem k3_off280_inb : ∀ (i : grid3.Coords) (v288 : BitVec 32) (v293 : BitVec 32) (k3_hw3 : k3_chk3 i v288 v293) (k3_t70 : Fin (k3_t70_loop i v288 v293).trips), ∀ (k3_h35 : k3_cond35 i v288 v293 = 1#1), ∀ a, (k3_off280 i v288 v293 k3_t70) a + S1x16.size a ≤ S256x128.size a := fun i v288 v293 k3_hw3 k3_t70 k3_h35 => k3_hw3.1.2.2.2.2.2.2.2.2.2.2.2.2.2.2.2.2.2.1 k3_t70 k3_h35
theorem k3_off281_inb : ∀ (i : grid3.Coords) (v288 : BitVec 32) (v293 : BitVec 32) (k3_hw3 : k3_chk3 i v288 v293) (k3_t70 : Fin (k3_t70_loop i v288 v293).trips), ∀ (k3_h35 : k3_cond35 i v288 v293 = 1#1), ∀ a, (k3_off281 i v288 v293 k3_t70) a + S1x16.size a ≤ S256x128.size a := fun i v288 v293 k3_hw3 k3_t70 k3_h35 => k3_hw3.1.2.2.2.2.2.2.2.2.2.2.2.2.2.2.2.2.2.2.1 k3_t70 k3_h35
theorem k3_off282_inb : ∀ (i : grid3.Coords) (v288 : BitVec 32) (v293 : BitVec 32) (k3_hw3 : k3_chk3 i v288 v293) (k3_t70 : Fin (k3_t70_loop i v288 v293).trips), ∀ (k3_h35 : k3_cond35 i v288 v293 = 1#1), ∀ a, (k3_off282 i v288 v293 k3_t70) a + S1x16.size a ≤ S256x128.size a := fun i v288 v293 k3_hw3 k3_t70 k3_h35 => k3_hw3.1.2.2.2.2.2.2.2.2.2.2.2.2.2.2.2.2.2.2.2.1 k3_t70 k3_h35
theorem k3_t133_ok : ∀ (i : grid3.Coords) (v288 : BitVec 32) (v293 : BitVec 32) (k3_hw3 : k3_chk3 i v288 v293), ∀ (k3_h67 : k3_cond67 i v288 v293 = 1#1), (k3_t133_loop i v288 v293).OK := fun i v288 v293 k3_hw3 k3_h67 => k3_hw3.1.2.2.2.2.2.2.2.2.2.2.2.2.2.2.2.2.2.2.2.2.1 k3_h67
theorem k3_off531_inb : ∀ (i : grid3.Coords) (v288 : BitVec 32) (v293 : BitVec 32) (k3_hw3 : k3_chk3 i v288 v293) (k3_t133 : Fin (k3_t133_loop i v288 v293).trips), ∀ (k3_h67 : k3_cond67 i v288 v293 = 1#1), ∀ a, (k3_off531 i v288 v293 k3_t133) a + S1x16.size a ≤ S256x128.size a := fun i v288 v293 k3_hw3 k3_t133 k3_h67 => k3_hw3.1.2.2.2.2.2.2.2.2.2.2.2.2.2.2.2.2.2.2.2.2.2.1 k3_t133 k3_h67
theorem k3_off532_inb : ∀ (i : grid3.Coords) (v288 : BitVec 32) (v293 : BitVec 32) (k3_hw3 : k3_chk3 i v288 v293) (k3_t133 : Fin (k3_t133_loop i v288 v293).trips), ∀ (k3_h67 : k3_cond67 i v288 v293 = 1#1), ∀ a, (k3_off532 i v288 v293 k3_t133) a + S1x16.size a ≤ S256x128.size a := fun i v288 v293 k3_hw3 k3_t133 k3_h67 => k3_hw3.1.2.2.2.2.2.2.2.2.2.2.2.2.2.2.2.2.2.2.2.2.2.2.1 k3_t133 k3_h67
theorem k3_off533_inb : ∀ (i : grid3.Coords) (v288 : BitVec 32) (v293 : BitVec 32) (k3_hw3 : k3_chk3 i v288 v293) (k3_t133 : Fin (k3_t133_loop i v288 v293).trips), ∀ (k3_h67 : k3_cond67 i v288 v293 = 1#1), ∀ a, (k3_off533 i v288 v293 k3_t133) a + S1x16.size a ≤ S256x128.size a := fun i v288 v293 k3_hw3 k3_t133 k3_h67 => k3_hw3.1.2.2.2.2.2.2.2.2.2.2.2.2.2.2.2.2.2.2.2.2.2.2.2.1 k3_t133 k3_h67
theorem k3_off534_inb : ∀ (i : grid3.Coords) (v288 : BitVec 32) (v293 : BitVec 32) (k3_hw3 : k3_chk3 i v288 v293) (k3_t133 : Fin (k3_t133_loop i v288 v293).trips), ∀ (k3_h67 : k3_cond67 i v288 v293 = 1#1), ∀ a, (k3_off534 i v288 v293 k3_t133) a + S1x16.size a ≤ S256x128.size a := fun i v288 v293 k3_hw3 k3_t133 k3_h67 => k3_hw3.1.2.2.2.2.2.2.2.2.2.2.2.2.2.2.2.2.2.2.2.2.2.2.2.2.1 k3_t133 k3_h67
theorem k3_t134_ok : ∀ (i : grid3.Coords) (v288 : BitVec 32) (v293 : BitVec 32) (k3_hw3 : k3_chk3 i v288 v293), ∀ (k3_h67 : k3_cond67 i v288 v293 = 1#1), (k3_t134_loop i v288 v293).OK := fun i v288 v293 k3_hw3 k3_h67 => k3_hw3.1.2.2.2.2.2.2.2.2.2.2.2.2.2.2.2.2.2.2.2.2.2.2.2.2.2.1 k3_h67
theorem k3_off535_inb : ∀ (i : grid3.Coords) (v288 : BitVec 32) (v293 : BitVec 32) (k3_hw3 : k3_chk3 i v288 v293) (k3_t134 : Fin (k3_t134_loop i v288 v293).trips), ∀ (k3_h67 : k3_cond67 i v288 v293 = 1#1), ∀ a, (k3_off535 i v288 v293 k3_t134) a + S1x16.size a ≤ S256x128.size a := fun i v288 v293 k3_hw3 k3_t134 k3_h67 => k3_hw3.1.2.2.2.2.2.2.2.2.2.2.2.2.2.2.2.2.2.2.2.2.2.2.2.2.2.2.1 k3_t134 k3_h67
theorem k3_off536_inb : ∀ (i : grid3.Coords) (v288 : BitVec 32) (v293 : BitVec 32) (k3_hw3 : k3_chk3 i v288 v293) (k3_t134 : Fin (k3_t134_loop i v288 v293).trips), ∀ (k3_h67 : k3_cond67 i v288 v293 = 1#1), ∀ a, (k3_off536 i v288 v293 k3_t134) a + S1x16.size a ≤ S256x128.size a := fun i v288 v293 k3_hw3 k3_t134 k3_h67 => k3_hw3.1.2.2.2.2.2.2.2.2.2.2.2.2.2.2.2.2.2.2.2.2.2.2.2.2.2.2.2.1 k3_t134 k3_h67
theorem k3_off537_inb : ∀ (i : grid3.Coords) (v288 : BitVec 32) (v293 : BitVec 32) (k3_hw3 : k3_chk3 i v288 v293) (k3_t134 : Fin (k3_t134_loop i v288 v293).trips), ∀ (k3_h67 : k3_cond67 i v288 v293 = 1#1), ∀ a, (k3_off537 i v288 v293 k3_t134) a + S1x16.size a ≤ S256x128.size a := fun i v288 v293 k3_hw3 k3_t134 k3_h67 => k3_hw3.1.2.2.2.2.2.2.2.2.2.2.2.2.2.2.2.2.2.2.2.2.2.2.2.2.2.2.2.2.1 k3_t134 k3_h67
theorem k3_off538_inb : ∀ (i : grid3.Coords) (v288 : BitVec 32) (v293 : BitVec 32) (k3_hw3 : k3_chk3 i v288 v293) (k3_t134 : Fin (k3_t134_loop i v288 v293).trips), ∀ (k3_h67 : k3_cond67 i v288 v293 = 1#1), ∀ a, (k3_off538 i v288 v293 k3_t134) a + S1x16.size a ≤ S256x128.size a := fun i v288 v293 k3_hw3 k3_t134 k3_h67 => k3_hw3.1.2.2.2.2.2.2.2.2.2.2.2.2.2.2.2.2.2.2.2.2.2.2.2.2.2.2.2.2.2.1 k3_t134 k3_h67
theorem k3_t197_ok : ∀ (i : grid3.Coords) (v288 : BitVec 32) (v293 : BitVec 32) (k3_hw3 : k3_chk3 i v288 v293), ∀ (k3_h99 : k3_cond99 i v288 v293 = 1#1), (k3_t197_loop i v288 v293).OK := fun i v288 v293 k3_hw3 k3_h99 => k3_hw3.1.2.2.2.2.2.2.2.2.2.2.2.2.2.2.2.2.2.2.2.2.2.2.2.2.2.2.2.2.2.2.1 k3_h99
theorem k3_off787_inb : ∀ (i : grid3.Coords) (v288 : BitVec 32) (v293 : BitVec 32) (k3_hw3 : k3_chk3 i v288 v293) (k3_t197 : Fin (k3_t197_loop i v288 v293).trips), ∀ (k3_h99 : k3_cond99 i v288 v293 = 1#1), ∀ a, (k3_off787 i v288 v293 k3_t197) a + S1x16.size a ≤ S256x128.size a := fun i v288 v293 k3_hw3 k3_t197 k3_h99 => k3_hw3.1.2.2.2.2.2.2.2.2.2.2.2.2.2.2.2.2.2.2.2.2.2.2.2.2.2.2.2.2.2.2.2 k3_t197 k3_h99
theorem k3_off788_inb : ∀ (i : grid3.Coords) (v288 : BitVec 32) (v293 : BitVec 32) (k3_hw3 : k3_chk3 i v288 v293) (k3_t197 : Fin (k3_t197_loop i v288 v293).trips), ∀ (k3_h99 : k3_cond99 i v288 v293 = 1#1), ∀ a, (k3_off788 i v288 v293 k3_t197) a + S1x16.size a ≤ S256x128.size a := fun i v288 v293 k3_hw3 k3_t197 k3_h99 => k3_hw3.2.1 k3_t197 k3_h99
theorem k3_off789_inb : ∀ (i : grid3.Coords) (v288 : BitVec 32) (v293 : BitVec 32) (k3_hw3 : k3_chk3 i v288 v293) (k3_t197 : Fin (k3_t197_loop i v288 v293).trips), ∀ (k3_h99 : k3_cond99 i v288 v293 = 1#1), ∀ a, (k3_off789 i v288 v293 k3_t197) a + S1x16.size a ≤ S256x128.size a := fun i v288 v293 k3_hw3 k3_t197 k3_h99 => k3_hw3.2.2.1 k3_t197 k3_h99
theorem k3_off790_inb : ∀ (i : grid3.Coords) (v288 : BitVec 32) (v293 : BitVec 32) (k3_hw3 : k3_chk3 i v288 v293) (k3_t197 : Fin (k3_t197_loop i v288 v293).trips), ∀ (k3_h99 : k3_cond99 i v288 v293 = 1#1), ∀ a, (k3_off790 i v288 v293 k3_t197) a + S1x16.size a ≤ S256x128.size a := fun i v288 v293 k3_hw3 k3_t197 k3_h99 => k3_hw3.2.2.2.1 k3_t197 k3_h99
theorem k3_t198_ok : ∀ (i : grid3.Coords) (v288 : BitVec 32) (v293 : BitVec 32) (k3_hw3 : k3_chk3 i v288 v293), ∀ (k3_h99 : k3_cond99 i v288 v293 = 1#1), (k3_t198_loop i v288 v293).OK := fun i v288 v293 k3_hw3 k3_h99 => k3_hw3.2.2.2.2.1 k3_h99
theorem k3_off791_inb : ∀ (i : grid3.Coords) (v288 : BitVec 32) (v293 : BitVec 32) (k3_hw3 : k3_chk3 i v288 v293) (k3_t198 : Fin (k3_t198_loop i v288 v293).trips), ∀ (k3_h99 : k3_cond99 i v288 v293 = 1#1), ∀ a, (k3_off791 i v288 v293 k3_t198) a + S1x16.size a ≤ S256x128.size a := fun i v288 v293 k3_hw3 k3_t198 k3_h99 => k3_hw3.2.2.2.2.2.1 k3_t198 k3_h99
theorem k3_off792_inb : ∀ (i : grid3.Coords) (v288 : BitVec 32) (v293 : BitVec 32) (k3_hw3 : k3_chk3 i v288 v293) (k3_t198 : Fin (k3_t198_loop i v288 v293).trips), ∀ (k3_h99 : k3_cond99 i v288 v293 = 1#1), ∀ a, (k3_off792 i v288 v293 k3_t198) a + S1x16.size a ≤ S256x128.size a := fun i v288 v293 k3_hw3 k3_t198 k3_h99 => k3_hw3.2.2.2.2.2.2.1 k3_t198 k3_h99
theorem k3_off793_inb : ∀ (i : grid3.Coords) (v288 : BitVec 32) (v293 : BitVec 32) (k3_hw3 : k3_chk3 i v288 v293) (k3_t198 : Fin (k3_t198_loop i v288 v293).trips), ∀ (k3_h99 : k3_cond99 i v288 v293 = 1#1), ∀ a, (k3_off793 i v288 v293 k3_t198) a + S1x16.size a ≤ S256x128.size a := fun i v288 v293 k3_hw3 k3_t198 k3_h99 => k3_hw3.2.2.2.2.2.2.2.1 k3_t198 k3_h99
theorem k3_off794_inb : ∀ (i : grid3.Coords) (v288 : BitVec 32) (v293 : BitVec 32) (k3_hw3 : k3_chk3 i v288 v293) (k3_t198 : Fin (k3_t198_loop i v288 v293).trips), ∀ (k3_h99 : k3_cond99 i v288 v293 = 1#1), ∀ a, (k3_off794 i v288 v293 k3_t198) a + S1x16.size a ≤ S256x128.size a := fun i v288 v293 k3_hw3 k3_t198 k3_h99 => k3_hw3.2.2.2.2.2.2.2.2 k3_t198 k3_h99

@[reducible] def k3_t199_loop (i : grid3.Coords) (v298 : BitVec 32) (v304 : BitVec 32) : Scf.Loop 32 :=
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let c256_i32_989 : BitVec 32 := 256#32
  let c0_i32_988 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c768_i32_987 : BitVec 32 := 768#32
  let v1535 : BitVec 32 := Scalar.subi v308 c768_i32_987
  let v1536 : BitVec 32 := Scalar.maxsi c0_i32_988 v1535
  let v1537 : BitVec 32 := Scalar.minsi c256_i32_989 v1536
  let v1805 : BitVec 32 := Scalar.subi v1537 v1534
  let c1_i32_1195 : BitVec 32 := 1#32
  let v1807 : BitVec 32 := Scalar.divsi v1805 c1_i32_1195
  let v1808 : BitVec 32 := Scalar.muli v1807 c1_i32_1195
  let v1809 : BitVec 32 := Scalar.addi v1534 v1808
  let c1_i32_1196 : BitVec 32 := 1#32
  ⟨v1534, v1809, c1_i32_1196⟩
def k3_cond100 (i : grid3.Coords) (v298 : BitVec 32) (v304 : BitVec 32) : BitVec 1 :=
  let c256_i32_989 : BitVec 32 := 256#32
  let c0_i32_988 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v306 : BitVec 32 := Scalar.subi v305 v3
  let v307 : BitVec 32 := Scalar.maxsi c0_i32_128 v306
  let v308 : BitVec 32 := Scalar.minsi c1024_i32_129 v307
  let c768_i32_987 : BitVec 32 := 768#32
  let v1535 : BitVec 32 := Scalar.subi v308 c768_i32_987
  let v1536 : BitVec 32 := Scalar.maxsi c0_i32_988 v1535
  let v1537 : BitVec 32 := Scalar.minsi c256_i32_989 v1536
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let v1538 : BitVec 1 := Scalar.cmpi .sgt v1537 v1534
  let v1539 : BitVec 32 := Scalar.extui v1538
  let c0_i32_990 : BitVec 32 := 0#32
  let v1540 : BitVec 1 := Scalar.cmpi .ne v1539 c0_i32_990
  v1540

def k3_off795 (i : grid3.Coords) (v298 : BitVec 32) (v304 : BitVec 32) (k3_t199 : Fin (k3_t199_loop i v298 v304).trips) : Fin 2 → Nat :=
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let c1_i32_1196 : BitVec 32 := 1#32
  let arg13 : BitVec 32 := Scf.iv v1534 c1_i32_1196 k3_t199
  let v1828 : Index := Scalar.indexCast arg13
  let c64 : Index := 64#32
  ![v1828.toNat, 64]
def k3_off796 (i : grid3.Coords) (v298 : BitVec 32) (v304 : BitVec 32) (k3_t199 : Fin (k3_t199_loop i v298 v304).trips) : Fin 2 → Nat :=
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let c1_i32_1196 : BitVec 32 := 1#32
  let arg13 : BitVec 32 := Scf.iv v1534 c1_i32_1196 k3_t199
  let v1832 : Index := Scalar.indexCast arg13
  let c80 : Index := 80#32
  ![v1832.toNat, 80]
def k3_off797 (i : grid3.Coords) (v298 : BitVec 32) (v304 : BitVec 32) (k3_t199 : Fin (k3_t199_loop i v298 v304).trips) : Fin 2 → Nat :=
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let c1_i32_1196 : BitVec 32 := 1#32
  let arg13 : BitVec 32 := Scf.iv v1534 c1_i32_1196 k3_t199
  let v1836 : Index := Scalar.indexCast arg13
  let c96 : Index := 96#32
  ![v1836.toNat, 96]
def k3_off798 (i : grid3.Coords) (v298 : BitVec 32) (v304 : BitVec 32) (k3_t199 : Fin (k3_t199_loop i v298 v304).trips) : Fin 2 → Nat :=
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let c1_i32_1196 : BitVec 32 := 1#32
  let arg13 : BitVec 32 := Scf.iv v1534 c1_i32_1196 k3_t199
  let v1840 : Index := Scalar.indexCast arg13
  let c112 : Index := 112#32
  ![v1840.toNat, 112]
@[reducible] def k3_t200_loop (i : grid3.Coords) (v298 : BitVec 32) (v304 : BitVec 32) : Scf.Loop 32 :=
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let c256_i32_989 : BitVec 32 := 256#32
  let c0_i32_988 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c768_i32_987 : BitVec 32 := 768#32
  let v1535 : BitVec 32 := Scalar.subi v308 c768_i32_987
  let v1536 : BitVec 32 := Scalar.maxsi c0_i32_988 v1535
  let v1537 : BitVec 32 := Scalar.minsi c256_i32_989 v1536
  let v1805 : BitVec 32 := Scalar.subi v1537 v1534
  let c1_i32_1195 : BitVec 32 := 1#32
  let v1807 : BitVec 32 := Scalar.divsi v1805 c1_i32_1195
  let v1808 : BitVec 32 := Scalar.muli v1807 c1_i32_1195
  let v1809 : BitVec 32 := Scalar.addi v1534 v1808
  let v1806 : BitVec 32 := Scalar.addi v1534 v1805
  let c1_i32_1197 : BitVec 32 := 1#32
  ⟨v1809, v1806, c1_i32_1197⟩
def k3_off799 (i : grid3.Coords) (v298 : BitVec 32) (v304 : BitVec 32) (k3_t200 : Fin (k3_t200_loop i v298 v304).trips) : Fin 2 → Nat :=
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let c256_i32_989 : BitVec 32 := 256#32
  let c0_i32_988 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c768_i32_987 : BitVec 32 := 768#32
  let v1535 : BitVec 32 := Scalar.subi v308 c768_i32_987
  let v1536 : BitVec 32 := Scalar.maxsi c0_i32_988 v1535
  let v1537 : BitVec 32 := Scalar.minsi c256_i32_989 v1536
  let v1805 : BitVec 32 := Scalar.subi v1537 v1534
  let c1_i32_1195 : BitVec 32 := 1#32
  let v1807 : BitVec 32 := Scalar.divsi v1805 c1_i32_1195
  let v1808 : BitVec 32 := Scalar.muli v1807 c1_i32_1195
  let v1809 : BitVec 32 := Scalar.addi v1534 v1808
  let c1_i32_1197 : BitVec 32 := 1#32
  let arg13 : BitVec 32 := Scf.iv v1809 c1_i32_1197 k3_t200
  let v1828 : Index := Scalar.indexCast arg13
  let c64 : Index := 64#32
  ![v1828.toNat, 64]
def k3_off800 (i : grid3.Coords) (v298 : BitVec 32) (v304 : BitVec 32) (k3_t200 : Fin (k3_t200_loop i v298 v304).trips) : Fin 2 → Nat :=
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let c256_i32_989 : BitVec 32 := 256#32
  let c0_i32_988 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c768_i32_987 : BitVec 32 := 768#32
  let v1535 : BitVec 32 := Scalar.subi v308 c768_i32_987
  let v1536 : BitVec 32 := Scalar.maxsi c0_i32_988 v1535
  let v1537 : BitVec 32 := Scalar.minsi c256_i32_989 v1536
  let v1805 : BitVec 32 := Scalar.subi v1537 v1534
  let c1_i32_1195 : BitVec 32 := 1#32
  let v1807 : BitVec 32 := Scalar.divsi v1805 c1_i32_1195
  let v1808 : BitVec 32 := Scalar.muli v1807 c1_i32_1195
  let v1809 : BitVec 32 := Scalar.addi v1534 v1808
  let c1_i32_1197 : BitVec 32 := 1#32
  let arg13 : BitVec 32 := Scf.iv v1809 c1_i32_1197 k3_t200
  let v1832 : Index := Scalar.indexCast arg13
  let c80 : Index := 80#32
  ![v1832.toNat, 80]
def k3_off801 (i : grid3.Coords) (v298 : BitVec 32) (v304 : BitVec 32) (k3_t200 : Fin (k3_t200_loop i v298 v304).trips) : Fin 2 → Nat :=
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let c256_i32_989 : BitVec 32 := 256#32
  let c0_i32_988 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c768_i32_987 : BitVec 32 := 768#32
  let v1535 : BitVec 32 := Scalar.subi v308 c768_i32_987
  let v1536 : BitVec 32 := Scalar.maxsi c0_i32_988 v1535
  let v1537 : BitVec 32 := Scalar.minsi c256_i32_989 v1536
  let v1805 : BitVec 32 := Scalar.subi v1537 v1534
  let c1_i32_1195 : BitVec 32 := 1#32
  let v1807 : BitVec 32 := Scalar.divsi v1805 c1_i32_1195
  let v1808 : BitVec 32 := Scalar.muli v1807 c1_i32_1195
  let v1809 : BitVec 32 := Scalar.addi v1534 v1808
  let c1_i32_1197 : BitVec 32 := 1#32
  let arg13 : BitVec 32 := Scf.iv v1809 c1_i32_1197 k3_t200
  let v1836 : Index := Scalar.indexCast arg13
  let c96 : Index := 96#32
  ![v1836.toNat, 96]
def k3_off802 (i : grid3.Coords) (v298 : BitVec 32) (v304 : BitVec 32) (k3_t200 : Fin (k3_t200_loop i v298 v304).trips) : Fin 2 → Nat :=
  let c256_i32_986 : BitVec 32 := 256#32
  let c0_i32_985 : BitVec 32 := 0#32
  let c1024_i32_126 : BitVec 32 := 1024#32
  let c0_i32_125 : BitVec 32 := 0#32
  let c65536_i32_124 : BitVec 32 := 65536#32
  let v299 : BitVec 32 := Scalar.subi v298 c65536_i32_124
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v300 : BitVec 32 := Scalar.subi v299 v3
  let v301 : BitVec 32 := Scalar.maxsi c0_i32_125 v300
  let v302 : BitVec 32 := Scalar.minsi c1024_i32_126 v301
  let c768_i32_984 : BitVec 32 := 768#32
  let v1532 : BitVec 32 := Scalar.subi v302 c768_i32_984
  let v1533 : BitVec 32 := Scalar.maxsi c0_i32_985 v1532
  let v1534 : BitVec 32 := Scalar.minsi c256_i32_986 v1533
  let c256_i32_989 : BitVec 32 := 256#32
  let c0_i32_988 : BitVec 32 := 0#32
  let c1024_i32_129 : BitVec 32 := 1024#32
  let c0_i32_128 : BitVec 32 := 0#32
  let c65536_i32_127 : BitVec 32 := 65536#32
  let v305 : BitVec 32 := Scalar.subi v304 c65536_i32_127
  let v306 : BitVec 32 := Scalar.subi v305 v3
  let v307 : BitVec 32 := Scalar.maxsi c0_i32_128 v306
  let v308 : BitVec 32 := Scalar.minsi c1024_i32_129 v307
  let c768_i32_987 : BitVec 32 := 768#32
  let v1535 : BitVec 32 := Scalar.subi v308 c768_i32_987
  let v1536 : BitVec 32 := Scalar.maxsi c0_i32_988 v1535
  let v1537 : BitVec 32 := Scalar.minsi c256_i32_989 v1536
  let v1805 : BitVec 32 := Scalar.subi v1537 v1534
  let c1_i32_1195 : BitVec 32 := 1#32
  let v1807 : BitVec 32 := Scalar.divsi v1805 c1_i32_1195
  let v1808 : BitVec 32 := Scalar.muli v1807 c1_i32_1195
  let v1809 : BitVec 32 := Scalar.addi v1534 v1808
  let c1_i32_1197 : BitVec 32 := 1#32
  let arg13 : BitVec 32 := Scf.iv v1809 c1_i32_1197 k3_t200
  let v1840 : Index := Scalar.indexCast arg13
  let c112 : Index := 112#32
  ![v1840.toNat, 112]

def k3_chk4_0 (i : grid3.Coords) (v298 : BitVec 32) (v304 : BitVec 32) : Prop :=
  (∀ (k3_h4 : k3_cond4 i v298 v304 = 1#1), (k3_t7_loop i v298 v304).OK) ∧
  (∀ k3_t7 : Fin (k3_t7_loop i v298 v304).trips, ∀ (k3_h4 : k3_cond4 i v298 v304 = 1#1), ∀ a, (k3_off26 i v298 v304 k3_t7) a + S1x16.size a ≤ S256x128.size a) ∧
  (∀ k3_t7 : Fin (k3_t7_loop i v298 v304).trips, ∀ (k3_h4 : k3_cond4 i v298 v304 = 1#1), ∀ a, (k3_off27 i v298 v304 k3_t7) a + S1x16.size a ≤ S256x128.size a) ∧
  (∀ k3_t7 : Fin (k3_t7_loop i v298 v304).trips, ∀ (k3_h4 : k3_cond4 i v298 v304 = 1#1), ∀ a, (k3_off28 i v298 v304 k3_t7) a + S1x16.size a ≤ S256x128.size a) ∧
  (∀ k3_t7 : Fin (k3_t7_loop i v298 v304).trips, ∀ (k3_h4 : k3_cond4 i v298 v304 = 1#1), ∀ a, (k3_off29 i v298 v304 k3_t7) a + S1x16.size a ≤ S256x128.size a) ∧
  (∀ (k3_h4 : k3_cond4 i v298 v304 = 1#1), (k3_t8_loop i v298 v304).OK) ∧
  (∀ k3_t8 : Fin (k3_t8_loop i v298 v304).trips, ∀ (k3_h4 : k3_cond4 i v298 v304 = 1#1), ∀ a, (k3_off30 i v298 v304 k3_t8) a + S1x16.size a ≤ S256x128.size a) ∧
  (∀ k3_t8 : Fin (k3_t8_loop i v298 v304).trips, ∀ (k3_h4 : k3_cond4 i v298 v304 = 1#1), ∀ a, (k3_off31 i v298 v304 k3_t8) a + S1x16.size a ≤ S256x128.size a) ∧
  (∀ k3_t8 : Fin (k3_t8_loop i v298 v304).trips, ∀ (k3_h4 : k3_cond4 i v298 v304 = 1#1), ∀ a, (k3_off32 i v298 v304 k3_t8) a + S1x16.size a ≤ S256x128.size a) ∧
  (∀ k3_t8 : Fin (k3_t8_loop i v298 v304).trips, ∀ (k3_h4 : k3_cond4 i v298 v304 = 1#1), ∀ a, (k3_off33 i v298 v304 k3_t8) a + S1x16.size a ≤ S256x128.size a) ∧
  (∀ (k3_h36 : k3_cond36 i v298 v304 = 1#1), (k3_t71_loop i v298 v304).OK) ∧
  (∀ k3_t71 : Fin (k3_t71_loop i v298 v304).trips, ∀ (k3_h36 : k3_cond36 i v298 v304 = 1#1), ∀ a, (k3_off283 i v298 v304 k3_t71) a + S1x16.size a ≤ S256x128.size a) ∧
  (∀ k3_t71 : Fin (k3_t71_loop i v298 v304).trips, ∀ (k3_h36 : k3_cond36 i v298 v304 = 1#1), ∀ a, (k3_off284 i v298 v304 k3_t71) a + S1x16.size a ≤ S256x128.size a) ∧
  (∀ k3_t71 : Fin (k3_t71_loop i v298 v304).trips, ∀ (k3_h36 : k3_cond36 i v298 v304 = 1#1), ∀ a, (k3_off285 i v298 v304 k3_t71) a + S1x16.size a ≤ S256x128.size a) ∧
  (∀ k3_t71 : Fin (k3_t71_loop i v298 v304).trips, ∀ (k3_h36 : k3_cond36 i v298 v304 = 1#1), ∀ a, (k3_off286 i v298 v304 k3_t71) a + S1x16.size a ≤ S256x128.size a) ∧
  (∀ (k3_h36 : k3_cond36 i v298 v304 = 1#1), (k3_t72_loop i v298 v304).OK) ∧
  (∀ k3_t72 : Fin (k3_t72_loop i v298 v304).trips, ∀ (k3_h36 : k3_cond36 i v298 v304 = 1#1), ∀ a, (k3_off287 i v298 v304 k3_t72) a + S1x16.size a ≤ S256x128.size a) ∧
  (∀ k3_t72 : Fin (k3_t72_loop i v298 v304).trips, ∀ (k3_h36 : k3_cond36 i v298 v304 = 1#1), ∀ a, (k3_off288 i v298 v304 k3_t72) a + S1x16.size a ≤ S256x128.size a) ∧
  (∀ k3_t72 : Fin (k3_t72_loop i v298 v304).trips, ∀ (k3_h36 : k3_cond36 i v298 v304 = 1#1), ∀ a, (k3_off289 i v298 v304 k3_t72) a + S1x16.size a ≤ S256x128.size a) ∧
  (∀ k3_t72 : Fin (k3_t72_loop i v298 v304).trips, ∀ (k3_h36 : k3_cond36 i v298 v304 = 1#1), ∀ a, (k3_off290 i v298 v304 k3_t72) a + S1x16.size a ≤ S256x128.size a) ∧
  (∀ (k3_h68 : k3_cond68 i v298 v304 = 1#1), (k3_t135_loop i v298 v304).OK) ∧
  (∀ k3_t135 : Fin (k3_t135_loop i v298 v304).trips, ∀ (k3_h68 : k3_cond68 i v298 v304 = 1#1), ∀ a, (k3_off539 i v298 v304 k3_t135) a + S1x16.size a ≤ S256x128.size a) ∧
  (∀ k3_t135 : Fin (k3_t135_loop i v298 v304).trips, ∀ (k3_h68 : k3_cond68 i v298 v304 = 1#1), ∀ a, (k3_off540 i v298 v304 k3_t135) a + S1x16.size a ≤ S256x128.size a) ∧
  (∀ k3_t135 : Fin (k3_t135_loop i v298 v304).trips, ∀ (k3_h68 : k3_cond68 i v298 v304 = 1#1), ∀ a, (k3_off541 i v298 v304 k3_t135) a + S1x16.size a ≤ S256x128.size a) ∧
  (∀ k3_t135 : Fin (k3_t135_loop i v298 v304).trips, ∀ (k3_h68 : k3_cond68 i v298 v304 = 1#1), ∀ a, (k3_off542 i v298 v304 k3_t135) a + S1x16.size a ≤ S256x128.size a) ∧
  (∀ (k3_h68 : k3_cond68 i v298 v304 = 1#1), (k3_t136_loop i v298 v304).OK) ∧
  (∀ k3_t136 : Fin (k3_t136_loop i v298 v304).trips, ∀ (k3_h68 : k3_cond68 i v298 v304 = 1#1), ∀ a, (k3_off543 i v298 v304 k3_t136) a + S1x16.size a ≤ S256x128.size a) ∧
  (∀ k3_t136 : Fin (k3_t136_loop i v298 v304).trips, ∀ (k3_h68 : k3_cond68 i v298 v304 = 1#1), ∀ a, (k3_off544 i v298 v304 k3_t136) a + S1x16.size a ≤ S256x128.size a) ∧
  (∀ k3_t136 : Fin (k3_t136_loop i v298 v304).trips, ∀ (k3_h68 : k3_cond68 i v298 v304 = 1#1), ∀ a, (k3_off545 i v298 v304 k3_t136) a + S1x16.size a ≤ S256x128.size a) ∧
  (∀ k3_t136 : Fin (k3_t136_loop i v298 v304).trips, ∀ (k3_h68 : k3_cond68 i v298 v304 = 1#1), ∀ a, (k3_off546 i v298 v304 k3_t136) a + S1x16.size a ≤ S256x128.size a) ∧
  (∀ (k3_h100 : k3_cond100 i v298 v304 = 1#1), (k3_t199_loop i v298 v304).OK) ∧
  (∀ k3_t199 : Fin (k3_t199_loop i v298 v304).trips, ∀ (k3_h100 : k3_cond100 i v298 v304 = 1#1), ∀ a, (k3_off795 i v298 v304 k3_t199) a + S1x16.size a ≤ S256x128.size a)
def k3_chk4_1 (i : grid3.Coords) (v298 : BitVec 32) (v304 : BitVec 32) : Prop :=
  (∀ k3_t199 : Fin (k3_t199_loop i v298 v304).trips, ∀ (k3_h100 : k3_cond100 i v298 v304 = 1#1), ∀ a, (k3_off796 i v298 v304 k3_t199) a + S1x16.size a ≤ S256x128.size a) ∧
  (∀ k3_t199 : Fin (k3_t199_loop i v298 v304).trips, ∀ (k3_h100 : k3_cond100 i v298 v304 = 1#1), ∀ a, (k3_off797 i v298 v304 k3_t199) a + S1x16.size a ≤ S256x128.size a) ∧
  (∀ k3_t199 : Fin (k3_t199_loop i v298 v304).trips, ∀ (k3_h100 : k3_cond100 i v298 v304 = 1#1), ∀ a, (k3_off798 i v298 v304 k3_t199) a + S1x16.size a ≤ S256x128.size a) ∧
  (∀ (k3_h100 : k3_cond100 i v298 v304 = 1#1), (k3_t200_loop i v298 v304).OK) ∧
  (∀ k3_t200 : Fin (k3_t200_loop i v298 v304).trips, ∀ (k3_h100 : k3_cond100 i v298 v304 = 1#1), ∀ a, (k3_off799 i v298 v304 k3_t200) a + S1x16.size a ≤ S256x128.size a) ∧
  (∀ k3_t200 : Fin (k3_t200_loop i v298 v304).trips, ∀ (k3_h100 : k3_cond100 i v298 v304 = 1#1), ∀ a, (k3_off800 i v298 v304 k3_t200) a + S1x16.size a ≤ S256x128.size a) ∧
  (∀ k3_t200 : Fin (k3_t200_loop i v298 v304).trips, ∀ (k3_h100 : k3_cond100 i v298 v304 = 1#1), ∀ a, (k3_off801 i v298 v304 k3_t200) a + S1x16.size a ≤ S256x128.size a) ∧
  (∀ k3_t200 : Fin (k3_t200_loop i v298 v304).trips, ∀ (k3_h100 : k3_cond100 i v298 v304 = 1#1), ∀ a, (k3_off802 i v298 v304 k3_t200) a + S1x16.size a ≤ S256x128.size a)
def k3_chk4 (i : grid3.Coords) (v298 : BitVec 32) (v304 : BitVec 32) : Prop :=
  k3_chk4_0 i v298 v304 ∧
  k3_chk4_1 i v298 v304
theorem k3_t7_ok : ∀ (i : grid3.Coords) (v298 : BitVec 32) (v304 : BitVec 32) (k3_hw4 : k3_chk4 i v298 v304), ∀ (k3_h4 : k3_cond4 i v298 v304 = 1#1), (k3_t7_loop i v298 v304).OK := fun i v298 v304 k3_hw4 k3_h4 => k3_hw4.1.1 k3_h4
theorem k3_off26_inb : ∀ (i : grid3.Coords) (v298 : BitVec 32) (v304 : BitVec 32) (k3_hw4 : k3_chk4 i v298 v304) (k3_t7 : Fin (k3_t7_loop i v298 v304).trips), ∀ (k3_h4 : k3_cond4 i v298 v304 = 1#1), ∀ a, (k3_off26 i v298 v304 k3_t7) a + S1x16.size a ≤ S256x128.size a := fun i v298 v304 k3_hw4 k3_t7 k3_h4 => k3_hw4.1.2.1 k3_t7 k3_h4
theorem k3_off27_inb : ∀ (i : grid3.Coords) (v298 : BitVec 32) (v304 : BitVec 32) (k3_hw4 : k3_chk4 i v298 v304) (k3_t7 : Fin (k3_t7_loop i v298 v304).trips), ∀ (k3_h4 : k3_cond4 i v298 v304 = 1#1), ∀ a, (k3_off27 i v298 v304 k3_t7) a + S1x16.size a ≤ S256x128.size a := fun i v298 v304 k3_hw4 k3_t7 k3_h4 => k3_hw4.1.2.2.1 k3_t7 k3_h4
theorem k3_off28_inb : ∀ (i : grid3.Coords) (v298 : BitVec 32) (v304 : BitVec 32) (k3_hw4 : k3_chk4 i v298 v304) (k3_t7 : Fin (k3_t7_loop i v298 v304).trips), ∀ (k3_h4 : k3_cond4 i v298 v304 = 1#1), ∀ a, (k3_off28 i v298 v304 k3_t7) a + S1x16.size a ≤ S256x128.size a := fun i v298 v304 k3_hw4 k3_t7 k3_h4 => k3_hw4.1.2.2.2.1 k3_t7 k3_h4
theorem k3_off29_inb : ∀ (i : grid3.Coords) (v298 : BitVec 32) (v304 : BitVec 32) (k3_hw4 : k3_chk4 i v298 v304) (k3_t7 : Fin (k3_t7_loop i v298 v304).trips), ∀ (k3_h4 : k3_cond4 i v298 v304 = 1#1), ∀ a, (k3_off29 i v298 v304 k3_t7) a + S1x16.size a ≤ S256x128.size a := fun i v298 v304 k3_hw4 k3_t7 k3_h4 => k3_hw4.1.2.2.2.2.1 k3_t7 k3_h4
theorem k3_t8_ok : ∀ (i : grid3.Coords) (v298 : BitVec 32) (v304 : BitVec 32) (k3_hw4 : k3_chk4 i v298 v304), ∀ (k3_h4 : k3_cond4 i v298 v304 = 1#1), (k3_t8_loop i v298 v304).OK := fun i v298 v304 k3_hw4 k3_h4 => k3_hw4.1.2.2.2.2.2.1 k3_h4
theorem k3_off30_inb : ∀ (i : grid3.Coords) (v298 : BitVec 32) (v304 : BitVec 32) (k3_hw4 : k3_chk4 i v298 v304) (k3_t8 : Fin (k3_t8_loop i v298 v304).trips), ∀ (k3_h4 : k3_cond4 i v298 v304 = 1#1), ∀ a, (k3_off30 i v298 v304 k3_t8) a + S1x16.size a ≤ S256x128.size a := fun i v298 v304 k3_hw4 k3_t8 k3_h4 => k3_hw4.1.2.2.2.2.2.2.1 k3_t8 k3_h4
theorem k3_off31_inb : ∀ (i : grid3.Coords) (v298 : BitVec 32) (v304 : BitVec 32) (k3_hw4 : k3_chk4 i v298 v304) (k3_t8 : Fin (k3_t8_loop i v298 v304).trips), ∀ (k3_h4 : k3_cond4 i v298 v304 = 1#1), ∀ a, (k3_off31 i v298 v304 k3_t8) a + S1x16.size a ≤ S256x128.size a := fun i v298 v304 k3_hw4 k3_t8 k3_h4 => k3_hw4.1.2.2.2.2.2.2.2.1 k3_t8 k3_h4
theorem k3_off32_inb : ∀ (i : grid3.Coords) (v298 : BitVec 32) (v304 : BitVec 32) (k3_hw4 : k3_chk4 i v298 v304) (k3_t8 : Fin (k3_t8_loop i v298 v304).trips), ∀ (k3_h4 : k3_cond4 i v298 v304 = 1#1), ∀ a, (k3_off32 i v298 v304 k3_t8) a + S1x16.size a ≤ S256x128.size a := fun i v298 v304 k3_hw4 k3_t8 k3_h4 => k3_hw4.1.2.2.2.2.2.2.2.2.1 k3_t8 k3_h4
theorem k3_off33_inb : ∀ (i : grid3.Coords) (v298 : BitVec 32) (v304 : BitVec 32) (k3_hw4 : k3_chk4 i v298 v304) (k3_t8 : Fin (k3_t8_loop i v298 v304).trips), ∀ (k3_h4 : k3_cond4 i v298 v304 = 1#1), ∀ a, (k3_off33 i v298 v304 k3_t8) a + S1x16.size a ≤ S256x128.size a := fun i v298 v304 k3_hw4 k3_t8 k3_h4 => k3_hw4.1.2.2.2.2.2.2.2.2.2.1 k3_t8 k3_h4
theorem k3_t71_ok : ∀ (i : grid3.Coords) (v298 : BitVec 32) (v304 : BitVec 32) (k3_hw4 : k3_chk4 i v298 v304), ∀ (k3_h36 : k3_cond36 i v298 v304 = 1#1), (k3_t71_loop i v298 v304).OK := fun i v298 v304 k3_hw4 k3_h36 => k3_hw4.1.2.2.2.2.2.2.2.2.2.2.1 k3_h36
theorem k3_off283_inb : ∀ (i : grid3.Coords) (v298 : BitVec 32) (v304 : BitVec 32) (k3_hw4 : k3_chk4 i v298 v304) (k3_t71 : Fin (k3_t71_loop i v298 v304).trips), ∀ (k3_h36 : k3_cond36 i v298 v304 = 1#1), ∀ a, (k3_off283 i v298 v304 k3_t71) a + S1x16.size a ≤ S256x128.size a := fun i v298 v304 k3_hw4 k3_t71 k3_h36 => k3_hw4.1.2.2.2.2.2.2.2.2.2.2.2.1 k3_t71 k3_h36
theorem k3_off284_inb : ∀ (i : grid3.Coords) (v298 : BitVec 32) (v304 : BitVec 32) (k3_hw4 : k3_chk4 i v298 v304) (k3_t71 : Fin (k3_t71_loop i v298 v304).trips), ∀ (k3_h36 : k3_cond36 i v298 v304 = 1#1), ∀ a, (k3_off284 i v298 v304 k3_t71) a + S1x16.size a ≤ S256x128.size a := fun i v298 v304 k3_hw4 k3_t71 k3_h36 => k3_hw4.1.2.2.2.2.2.2.2.2.2.2.2.2.1 k3_t71 k3_h36
theorem k3_off285_inb : ∀ (i : grid3.Coords) (v298 : BitVec 32) (v304 : BitVec 32) (k3_hw4 : k3_chk4 i v298 v304) (k3_t71 : Fin (k3_t71_loop i v298 v304).trips), ∀ (k3_h36 : k3_cond36 i v298 v304 = 1#1), ∀ a, (k3_off285 i v298 v304 k3_t71) a + S1x16.size a ≤ S256x128.size a := fun i v298 v304 k3_hw4 k3_t71 k3_h36 => k3_hw4.1.2.2.2.2.2.2.2.2.2.2.2.2.2.1 k3_t71 k3_h36
theorem k3_off286_inb : ∀ (i : grid3.Coords) (v298 : BitVec 32) (v304 : BitVec 32) (k3_hw4 : k3_chk4 i v298 v304) (k3_t71 : Fin (k3_t71_loop i v298 v304).trips), ∀ (k3_h36 : k3_cond36 i v298 v304 = 1#1), ∀ a, (k3_off286 i v298 v304 k3_t71) a + S1x16.size a ≤ S256x128.size a := fun i v298 v304 k3_hw4 k3_t71 k3_h36 => k3_hw4.1.2.2.2.2.2.2.2.2.2.2.2.2.2.2.1 k3_t71 k3_h36
theorem k3_t72_ok : ∀ (i : grid3.Coords) (v298 : BitVec 32) (v304 : BitVec 32) (k3_hw4 : k3_chk4 i v298 v304), ∀ (k3_h36 : k3_cond36 i v298 v304 = 1#1), (k3_t72_loop i v298 v304).OK := fun i v298 v304 k3_hw4 k3_h36 => k3_hw4.1.2.2.2.2.2.2.2.2.2.2.2.2.2.2.2.1 k3_h36
theorem k3_off287_inb : ∀ (i : grid3.Coords) (v298 : BitVec 32) (v304 : BitVec 32) (k3_hw4 : k3_chk4 i v298 v304) (k3_t72 : Fin (k3_t72_loop i v298 v304).trips), ∀ (k3_h36 : k3_cond36 i v298 v304 = 1#1), ∀ a, (k3_off287 i v298 v304 k3_t72) a + S1x16.size a ≤ S256x128.size a := fun i v298 v304 k3_hw4 k3_t72 k3_h36 => k3_hw4.1.2.2.2.2.2.2.2.2.2.2.2.2.2.2.2.2.1 k3_t72 k3_h36
theorem k3_off288_inb : ∀ (i : grid3.Coords) (v298 : BitVec 32) (v304 : BitVec 32) (k3_hw4 : k3_chk4 i v298 v304) (k3_t72 : Fin (k3_t72_loop i v298 v304).trips), ∀ (k3_h36 : k3_cond36 i v298 v304 = 1#1), ∀ a, (k3_off288 i v298 v304 k3_t72) a + S1x16.size a ≤ S256x128.size a := fun i v298 v304 k3_hw4 k3_t72 k3_h36 => k3_hw4.1.2.2.2.2.2.2.2.2.2.2.2.2.2.2.2.2.2.1 k3_t72 k3_h36
theorem k3_off289_inb : ∀ (i : grid3.Coords) (v298 : BitVec 32) (v304 : BitVec 32) (k3_hw4 : k3_chk4 i v298 v304) (k3_t72 : Fin (k3_t72_loop i v298 v304).trips), ∀ (k3_h36 : k3_cond36 i v298 v304 = 1#1), ∀ a, (k3_off289 i v298 v304 k3_t72) a + S1x16.size a ≤ S256x128.size a := fun i v298 v304 k3_hw4 k3_t72 k3_h36 => k3_hw4.1.2.2.2.2.2.2.2.2.2.2.2.2.2.2.2.2.2.2.1 k3_t72 k3_h36
theorem k3_off290_inb : ∀ (i : grid3.Coords) (v298 : BitVec 32) (v304 : BitVec 32) (k3_hw4 : k3_chk4 i v298 v304) (k3_t72 : Fin (k3_t72_loop i v298 v304).trips), ∀ (k3_h36 : k3_cond36 i v298 v304 = 1#1), ∀ a, (k3_off290 i v298 v304 k3_t72) a + S1x16.size a ≤ S256x128.size a := fun i v298 v304 k3_hw4 k3_t72 k3_h36 => k3_hw4.1.2.2.2.2.2.2.2.2.2.2.2.2.2.2.2.2.2.2.2.1 k3_t72 k3_h36
theorem k3_t135_ok : ∀ (i : grid3.Coords) (v298 : BitVec 32) (v304 : BitVec 32) (k3_hw4 : k3_chk4 i v298 v304), ∀ (k3_h68 : k3_cond68 i v298 v304 = 1#1), (k3_t135_loop i v298 v304).OK := fun i v298 v304 k3_hw4 k3_h68 => k3_hw4.1.2.2.2.2.2.2.2.2.2.2.2.2.2.2.2.2.2.2.2.2.1 k3_h68
theorem k3_off539_inb : ∀ (i : grid3.Coords) (v298 : BitVec 32) (v304 : BitVec 32) (k3_hw4 : k3_chk4 i v298 v304) (k3_t135 : Fin (k3_t135_loop i v298 v304).trips), ∀ (k3_h68 : k3_cond68 i v298 v304 = 1#1), ∀ a, (k3_off539 i v298 v304 k3_t135) a + S1x16.size a ≤ S256x128.size a := fun i v298 v304 k3_hw4 k3_t135 k3_h68 => k3_hw4.1.2.2.2.2.2.2.2.2.2.2.2.2.2.2.2.2.2.2.2.2.2.1 k3_t135 k3_h68
theorem k3_off540_inb : ∀ (i : grid3.Coords) (v298 : BitVec 32) (v304 : BitVec 32) (k3_hw4 : k3_chk4 i v298 v304) (k3_t135 : Fin (k3_t135_loop i v298 v304).trips), ∀ (k3_h68 : k3_cond68 i v298 v304 = 1#1), ∀ a, (k3_off540 i v298 v304 k3_t135) a + S1x16.size a ≤ S256x128.size a := fun i v298 v304 k3_hw4 k3_t135 k3_h68 => k3_hw4.1.2.2.2.2.2.2.2.2.2.2.2.2.2.2.2.2.2.2.2.2.2.2.1 k3_t135 k3_h68
theorem k3_off541_inb : ∀ (i : grid3.Coords) (v298 : BitVec 32) (v304 : BitVec 32) (k3_hw4 : k3_chk4 i v298 v304) (k3_t135 : Fin (k3_t135_loop i v298 v304).trips), ∀ (k3_h68 : k3_cond68 i v298 v304 = 1#1), ∀ a, (k3_off541 i v298 v304 k3_t135) a + S1x16.size a ≤ S256x128.size a := fun i v298 v304 k3_hw4 k3_t135 k3_h68 => k3_hw4.1.2.2.2.2.2.2.2.2.2.2.2.2.2.2.2.2.2.2.2.2.2.2.2.1 k3_t135 k3_h68
theorem k3_off542_inb : ∀ (i : grid3.Coords) (v298 : BitVec 32) (v304 : BitVec 32) (k3_hw4 : k3_chk4 i v298 v304) (k3_t135 : Fin (k3_t135_loop i v298 v304).trips), ∀ (k3_h68 : k3_cond68 i v298 v304 = 1#1), ∀ a, (k3_off542 i v298 v304 k3_t135) a + S1x16.size a ≤ S256x128.size a := fun i v298 v304 k3_hw4 k3_t135 k3_h68 => k3_hw4.1.2.2.2.2.2.2.2.2.2.2.2.2.2.2.2.2.2.2.2.2.2.2.2.2.1 k3_t135 k3_h68
theorem k3_t136_ok : ∀ (i : grid3.Coords) (v298 : BitVec 32) (v304 : BitVec 32) (k3_hw4 : k3_chk4 i v298 v304), ∀ (k3_h68 : k3_cond68 i v298 v304 = 1#1), (k3_t136_loop i v298 v304).OK := fun i v298 v304 k3_hw4 k3_h68 => k3_hw4.1.2.2.2.2.2.2.2.2.2.2.2.2.2.2.2.2.2.2.2.2.2.2.2.2.2.1 k3_h68
theorem k3_off543_inb : ∀ (i : grid3.Coords) (v298 : BitVec 32) (v304 : BitVec 32) (k3_hw4 : k3_chk4 i v298 v304) (k3_t136 : Fin (k3_t136_loop i v298 v304).trips), ∀ (k3_h68 : k3_cond68 i v298 v304 = 1#1), ∀ a, (k3_off543 i v298 v304 k3_t136) a + S1x16.size a ≤ S256x128.size a := fun i v298 v304 k3_hw4 k3_t136 k3_h68 => k3_hw4.1.2.2.2.2.2.2.2.2.2.2.2.2.2.2.2.2.2.2.2.2.2.2.2.2.2.2.1 k3_t136 k3_h68
theorem k3_off544_inb : ∀ (i : grid3.Coords) (v298 : BitVec 32) (v304 : BitVec 32) (k3_hw4 : k3_chk4 i v298 v304) (k3_t136 : Fin (k3_t136_loop i v298 v304).trips), ∀ (k3_h68 : k3_cond68 i v298 v304 = 1#1), ∀ a, (k3_off544 i v298 v304 k3_t136) a + S1x16.size a ≤ S256x128.size a := fun i v298 v304 k3_hw4 k3_t136 k3_h68 => k3_hw4.1.2.2.2.2.2.2.2.2.2.2.2.2.2.2.2.2.2.2.2.2.2.2.2.2.2.2.2.1 k3_t136 k3_h68
theorem k3_off545_inb : ∀ (i : grid3.Coords) (v298 : BitVec 32) (v304 : BitVec 32) (k3_hw4 : k3_chk4 i v298 v304) (k3_t136 : Fin (k3_t136_loop i v298 v304).trips), ∀ (k3_h68 : k3_cond68 i v298 v304 = 1#1), ∀ a, (k3_off545 i v298 v304 k3_t136) a + S1x16.size a ≤ S256x128.size a := fun i v298 v304 k3_hw4 k3_t136 k3_h68 => k3_hw4.1.2.2.2.2.2.2.2.2.2.2.2.2.2.2.2.2.2.2.2.2.2.2.2.2.2.2.2.2.1 k3_t136 k3_h68
theorem k3_off546_inb : ∀ (i : grid3.Coords) (v298 : BitVec 32) (v304 : BitVec 32) (k3_hw4 : k3_chk4 i v298 v304) (k3_t136 : Fin (k3_t136_loop i v298 v304).trips), ∀ (k3_h68 : k3_cond68 i v298 v304 = 1#1), ∀ a, (k3_off546 i v298 v304 k3_t136) a + S1x16.size a ≤ S256x128.size a := fun i v298 v304 k3_hw4 k3_t136 k3_h68 => k3_hw4.1.2.2.2.2.2.2.2.2.2.2.2.2.2.2.2.2.2.2.2.2.2.2.2.2.2.2.2.2.2.1 k3_t136 k3_h68
theorem k3_t199_ok : ∀ (i : grid3.Coords) (v298 : BitVec 32) (v304 : BitVec 32) (k3_hw4 : k3_chk4 i v298 v304), ∀ (k3_h100 : k3_cond100 i v298 v304 = 1#1), (k3_t199_loop i v298 v304).OK := fun i v298 v304 k3_hw4 k3_h100 => k3_hw4.1.2.2.2.2.2.2.2.2.2.2.2.2.2.2.2.2.2.2.2.2.2.2.2.2.2.2.2.2.2.2.1 k3_h100
theorem k3_off795_inb : ∀ (i : grid3.Coords) (v298 : BitVec 32) (v304 : BitVec 32) (k3_hw4 : k3_chk4 i v298 v304) (k3_t199 : Fin (k3_t199_loop i v298 v304).trips), ∀ (k3_h100 : k3_cond100 i v298 v304 = 1#1), ∀ a, (k3_off795 i v298 v304 k3_t199) a + S1x16.size a ≤ S256x128.size a := fun i v298 v304 k3_hw4 k3_t199 k3_h100 => k3_hw4.1.2.2.2.2.2.2.2.2.2.2.2.2.2.2.2.2.2.2.2.2.2.2.2.2.2.2.2.2.2.2.2 k3_t199 k3_h100
theorem k3_off796_inb : ∀ (i : grid3.Coords) (v298 : BitVec 32) (v304 : BitVec 32) (k3_hw4 : k3_chk4 i v298 v304) (k3_t199 : Fin (k3_t199_loop i v298 v304).trips), ∀ (k3_h100 : k3_cond100 i v298 v304 = 1#1), ∀ a, (k3_off796 i v298 v304 k3_t199) a + S1x16.size a ≤ S256x128.size a := fun i v298 v304 k3_hw4 k3_t199 k3_h100 => k3_hw4.2.1 k3_t199 k3_h100
theorem k3_off797_inb : ∀ (i : grid3.Coords) (v298 : BitVec 32) (v304 : BitVec 32) (k3_hw4 : k3_chk4 i v298 v304) (k3_t199 : Fin (k3_t199_loop i v298 v304).trips), ∀ (k3_h100 : k3_cond100 i v298 v304 = 1#1), ∀ a, (k3_off797 i v298 v304 k3_t199) a + S1x16.size a ≤ S256x128.size a := fun i v298 v304 k3_hw4 k3_t199 k3_h100 => k3_hw4.2.2.1 k3_t199 k3_h100
theorem k3_off798_inb : ∀ (i : grid3.Coords) (v298 : BitVec 32) (v304 : BitVec 32) (k3_hw4 : k3_chk4 i v298 v304) (k3_t199 : Fin (k3_t199_loop i v298 v304).trips), ∀ (k3_h100 : k3_cond100 i v298 v304 = 1#1), ∀ a, (k3_off798 i v298 v304 k3_t199) a + S1x16.size a ≤ S256x128.size a := fun i v298 v304 k3_hw4 k3_t199 k3_h100 => k3_hw4.2.2.2.1 k3_t199 k3_h100
theorem k3_t200_ok : ∀ (i : grid3.Coords) (v298 : BitVec 32) (v304 : BitVec 32) (k3_hw4 : k3_chk4 i v298 v304), ∀ (k3_h100 : k3_cond100 i v298 v304 = 1#1), (k3_t200_loop i v298 v304).OK := fun i v298 v304 k3_hw4 k3_h100 => k3_hw4.2.2.2.2.1 k3_h100
theorem k3_off799_inb : ∀ (i : grid3.Coords) (v298 : BitVec 32) (v304 : BitVec 32) (k3_hw4 : k3_chk4 i v298 v304) (k3_t200 : Fin (k3_t200_loop i v298 v304).trips), ∀ (k3_h100 : k3_cond100 i v298 v304 = 1#1), ∀ a, (k3_off799 i v298 v304 k3_t200) a + S1x16.size a ≤ S256x128.size a := fun i v298 v304 k3_hw4 k3_t200 k3_h100 => k3_hw4.2.2.2.2.2.1 k3_t200 k3_h100
theorem k3_off800_inb : ∀ (i : grid3.Coords) (v298 : BitVec 32) (v304 : BitVec 32) (k3_hw4 : k3_chk4 i v298 v304) (k3_t200 : Fin (k3_t200_loop i v298 v304).trips), ∀ (k3_h100 : k3_cond100 i v298 v304 = 1#1), ∀ a, (k3_off800 i v298 v304 k3_t200) a + S1x16.size a ≤ S256x128.size a := fun i v298 v304 k3_hw4 k3_t200 k3_h100 => k3_hw4.2.2.2.2.2.2.1 k3_t200 k3_h100
theorem k3_off801_inb : ∀ (i : grid3.Coords) (v298 : BitVec 32) (v304 : BitVec 32) (k3_hw4 : k3_chk4 i v298 v304) (k3_t200 : Fin (k3_t200_loop i v298 v304).trips), ∀ (k3_h100 : k3_cond100 i v298 v304 = 1#1), ∀ a, (k3_off801 i v298 v304 k3_t200) a + S1x16.size a ≤ S256x128.size a := fun i v298 v304 k3_hw4 k3_t200 k3_h100 => k3_hw4.2.2.2.2.2.2.2.1 k3_t200 k3_h100
theorem k3_off802_inb : ∀ (i : grid3.Coords) (v298 : BitVec 32) (v304 : BitVec 32) (k3_hw4 : k3_chk4 i v298 v304) (k3_t200 : Fin (k3_t200_loop i v298 v304).trips), ∀ (k3_h100 : k3_cond100 i v298 v304 = 1#1), ∀ a, (k3_off802 i v298 v304 k3_t200) a + S1x16.size a ≤ S256x128.size a := fun i v298 v304 k3_hw4 k3_t200 k3_h100 => k3_hw4.2.2.2.2.2.2.2.2 k3_t200 k3_h100

@[reducible] def k3_t201_loop (i : grid3.Coords) (v310 : BitVec 32) (v315 : BitVec 32) : Scf.Loop 32 :=
  let c256_i32_993 : BitVec 32 := 256#32
  let c0_i32_992 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let c256_i32_996 : BitVec 32 := 256#32
  let c0_i32_995 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c768_i32_994 : BitVec 32 := 768#32
  let v1544 : BitVec 32 := Scalar.subi v318 c768_i32_994
  let v1545 : BitVec 32 := Scalar.maxsi c0_i32_995 v1544
  let v1546 : BitVec 32 := Scalar.minsi c256_i32_996 v1545
  let v1805 : BitVec 32 := Scalar.subi v1546 v1543
  let c1_i32_1195 : BitVec 32 := 1#32
  let v1807 : BitVec 32 := Scalar.divsi v1805 c1_i32_1195
  let v1808 : BitVec 32 := Scalar.muli v1807 c1_i32_1195
  let v1809 : BitVec 32 := Scalar.addi v1543 v1808
  let c1_i32_1196 : BitVec 32 := 1#32
  ⟨v1543, v1809, c1_i32_1196⟩
def k3_cond101 (i : grid3.Coords) (v310 : BitVec 32) (v315 : BitVec 32) : BitVec 1 :=
  let c256_i32_996 : BitVec 32 := 256#32
  let c0_i32_995 : BitVec 32 := 0#32
  let c1024_i32_133 : BitVec 32 := 1024#32
  let c0_i32_132 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v316 : BitVec 32 := Scalar.subi v315 v3
  let v317 : BitVec 32 := Scalar.maxsi c0_i32_132 v316
  let v318 : BitVec 32 := Scalar.minsi c1024_i32_133 v317
  let c768_i32_994 : BitVec 32 := 768#32
  let v1544 : BitVec 32 := Scalar.subi v318 c768_i32_994
  let v1545 : BitVec 32 := Scalar.maxsi c0_i32_995 v1544
  let v1546 : BitVec 32 := Scalar.minsi c256_i32_996 v1545
  let c256_i32_993 : BitVec 32 := 256#32
  let c0_i32_992 : BitVec 32 := 0#32
  let c1024_i32_131 : BitVec 32 := 1024#32
  let c0_i32_130 : BitVec 32 := 0#32
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let v1547 : BitVec 1 := Scalar.cmpi .sgt v1546 v1543
  let v1548 : BitVec 32 := Scalar.extui v1547
  let c0_i32_997 : BitVec 32 := 0#32
  let v1549 : BitVec 1 := Scalar.cmpi .ne v1548 c0_i32_997
  v1549

def k3_off803 (i : grid3.Coords) (v310 : BitVec 32) (v315 : BitVec 32) (k3_t201 : Fin (k3_t201_loop i v310 v315).trips) : Fin 2 → Nat :=
  let c256_i32_993 : BitVec 32 := 256#32
  let c0_i32_992 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let c1_i32_1196 : BitVec 32 := 1#32
  let arg13 : BitVec 32 := Scf.iv v1543 c1_i32_1196 k3_t201
  let v1828 : Index := Scalar.indexCast arg13
  let c0_1206 : Index := 0#32
  ![v1828.toNat, 0]
def k3_off804 (i : grid3.Coords) (v310 : BitVec 32) (v315 : BitVec 32) (k3_t201 : Fin (k3_t201_loop i v310 v315).trips) : Fin 2 → Nat :=
  let c256_i32_993 : BitVec 32 := 256#32
  let c0_i32_992 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let c1_i32_1196 : BitVec 32 := 1#32
  let arg13 : BitVec 32 := Scf.iv v1543 c1_i32_1196 k3_t201
  let v1832 : Index := Scalar.indexCast arg13
  let c16_1207 : Index := 16#32
  ![v1832.toNat, 16]
def k3_off805 (i : grid3.Coords) (v310 : BitVec 32) (v315 : BitVec 32) (k3_t201 : Fin (k3_t201_loop i v310 v315).trips) : Fin 2 → Nat :=
  let c256_i32_993 : BitVec 32 := 256#32
  let c0_i32_992 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let c1_i32_1196 : BitVec 32 := 1#32
  let arg13 : BitVec 32 := Scf.iv v1543 c1_i32_1196 k3_t201
  let v1836 : Index := Scalar.indexCast arg13
  let c32_1208 : Index := 32#32
  ![v1836.toNat, 32]
def k3_off806 (i : grid3.Coords) (v310 : BitVec 32) (v315 : BitVec 32) (k3_t201 : Fin (k3_t201_loop i v310 v315).trips) : Fin 2 → Nat :=
  let c256_i32_993 : BitVec 32 := 256#32
  let c0_i32_992 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let c1_i32_1196 : BitVec 32 := 1#32
  let arg13 : BitVec 32 := Scf.iv v1543 c1_i32_1196 k3_t201
  let v1840 : Index := Scalar.indexCast arg13
  let c48_1209 : Index := 48#32
  ![v1840.toNat, 48]
@[reducible] def k3_t202_loop (i : grid3.Coords) (v310 : BitVec 32) (v315 : BitVec 32) : Scf.Loop 32 :=
  let c256_i32_993 : BitVec 32 := 256#32
  let c0_i32_992 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let c256_i32_996 : BitVec 32 := 256#32
  let c0_i32_995 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c768_i32_994 : BitVec 32 := 768#32
  let v1544 : BitVec 32 := Scalar.subi v318 c768_i32_994
  let v1545 : BitVec 32 := Scalar.maxsi c0_i32_995 v1544
  let v1546 : BitVec 32 := Scalar.minsi c256_i32_996 v1545
  let v1805 : BitVec 32 := Scalar.subi v1546 v1543
  let c1_i32_1195 : BitVec 32 := 1#32
  let v1807 : BitVec 32 := Scalar.divsi v1805 c1_i32_1195
  let v1808 : BitVec 32 := Scalar.muli v1807 c1_i32_1195
  let v1809 : BitVec 32 := Scalar.addi v1543 v1808
  let v1806 : BitVec 32 := Scalar.addi v1543 v1805
  let c1_i32_1197 : BitVec 32 := 1#32
  ⟨v1809, v1806, c1_i32_1197⟩
def k3_off807 (i : grid3.Coords) (v310 : BitVec 32) (v315 : BitVec 32) (k3_t202 : Fin (k3_t202_loop i v310 v315).trips) : Fin 2 → Nat :=
  let c256_i32_993 : BitVec 32 := 256#32
  let c0_i32_992 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let c256_i32_996 : BitVec 32 := 256#32
  let c0_i32_995 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c768_i32_994 : BitVec 32 := 768#32
  let v1544 : BitVec 32 := Scalar.subi v318 c768_i32_994
  let v1545 : BitVec 32 := Scalar.maxsi c0_i32_995 v1544
  let v1546 : BitVec 32 := Scalar.minsi c256_i32_996 v1545
  let v1805 : BitVec 32 := Scalar.subi v1546 v1543
  let c1_i32_1195 : BitVec 32 := 1#32
  let v1807 : BitVec 32 := Scalar.divsi v1805 c1_i32_1195
  let v1808 : BitVec 32 := Scalar.muli v1807 c1_i32_1195
  let v1809 : BitVec 32 := Scalar.addi v1543 v1808
  let c1_i32_1197 : BitVec 32 := 1#32
  let arg13 : BitVec 32 := Scf.iv v1809 c1_i32_1197 k3_t202
  let v1828 : Index := Scalar.indexCast arg13
  let c0_1206 : Index := 0#32
  ![v1828.toNat, 0]
def k3_off808 (i : grid3.Coords) (v310 : BitVec 32) (v315 : BitVec 32) (k3_t202 : Fin (k3_t202_loop i v310 v315).trips) : Fin 2 → Nat :=
  let c256_i32_993 : BitVec 32 := 256#32
  let c0_i32_992 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let c256_i32_996 : BitVec 32 := 256#32
  let c0_i32_995 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c768_i32_994 : BitVec 32 := 768#32
  let v1544 : BitVec 32 := Scalar.subi v318 c768_i32_994
  let v1545 : BitVec 32 := Scalar.maxsi c0_i32_995 v1544
  let v1546 : BitVec 32 := Scalar.minsi c256_i32_996 v1545
  let v1805 : BitVec 32 := Scalar.subi v1546 v1543
  let c1_i32_1195 : BitVec 32 := 1#32
  let v1807 : BitVec 32 := Scalar.divsi v1805 c1_i32_1195
  let v1808 : BitVec 32 := Scalar.muli v1807 c1_i32_1195
  let v1809 : BitVec 32 := Scalar.addi v1543 v1808
  let c1_i32_1197 : BitVec 32 := 1#32
  let arg13 : BitVec 32 := Scf.iv v1809 c1_i32_1197 k3_t202
  let v1832 : Index := Scalar.indexCast arg13
  let c16_1207 : Index := 16#32
  ![v1832.toNat, 16]
def k3_off809 (i : grid3.Coords) (v310 : BitVec 32) (v315 : BitVec 32) (k3_t202 : Fin (k3_t202_loop i v310 v315).trips) : Fin 2 → Nat :=
  let c256_i32_993 : BitVec 32 := 256#32
  let c0_i32_992 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let c256_i32_996 : BitVec 32 := 256#32
  let c0_i32_995 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c768_i32_994 : BitVec 32 := 768#32
  let v1544 : BitVec 32 := Scalar.subi v318 c768_i32_994
  let v1545 : BitVec 32 := Scalar.maxsi c0_i32_995 v1544
  let v1546 : BitVec 32 := Scalar.minsi c256_i32_996 v1545
  let v1805 : BitVec 32 := Scalar.subi v1546 v1543
  let c1_i32_1195 : BitVec 32 := 1#32
  let v1807 : BitVec 32 := Scalar.divsi v1805 c1_i32_1195
  let v1808 : BitVec 32 := Scalar.muli v1807 c1_i32_1195
  let v1809 : BitVec 32 := Scalar.addi v1543 v1808
  let c1_i32_1197 : BitVec 32 := 1#32
  let arg13 : BitVec 32 := Scf.iv v1809 c1_i32_1197 k3_t202
  let v1836 : Index := Scalar.indexCast arg13
  let c32_1208 : Index := 32#32
  ![v1836.toNat, 32]
def k3_off810 (i : grid3.Coords) (v310 : BitVec 32) (v315 : BitVec 32) (k3_t202 : Fin (k3_t202_loop i v310 v315).trips) : Fin 2 → Nat :=
  let c256_i32_993 : BitVec 32 := 256#32
  let c0_i32_992 : BitVec 32 := 0#32
  let c1024_i32_131 : BitVec 32 := 1024#32
  let c0_i32_130 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v311 : BitVec 32 := Scalar.subi v310 v3
  let v312 : BitVec 32 := Scalar.maxsi c0_i32_130 v311
  let v313 : BitVec 32 := Scalar.minsi c1024_i32_131 v312
  let c768_i32_991 : BitVec 32 := 768#32
  let v1541 : BitVec 32 := Scalar.subi v313 c768_i32_991
  let v1542 : BitVec 32 := Scalar.maxsi c0_i32_992 v1541
  let v1543 : BitVec 32 := Scalar.minsi c256_i32_993 v1542
  let c256_i32_996 : BitVec 32 := 256#32
  let c0_i32_995 : BitVec 32 := 0#32
  let c1024_i32_133 : BitVec 32 := 1024#32
  let c0_i32_132 : BitVec 32 := 0#32
  let v316 : BitVec 32 := Scalar.subi v315 v3
  let v317 : BitVec 32 := Scalar.maxsi c0_i32_132 v316
  let v318 : BitVec 32 := Scalar.minsi c1024_i32_133 v317
  let c768_i32_994 : BitVec 32 := 768#32
  let v1544 : BitVec 32 := Scalar.subi v318 c768_i32_994
  let v1545 : BitVec 32 := Scalar.maxsi c0_i32_995 v1544
  let v1546 : BitVec 32 := Scalar.minsi c256_i32_996 v1545
  let v1805 : BitVec 32 := Scalar.subi v1546 v1543
  let c1_i32_1195 : BitVec 32 := 1#32
  let v1807 : BitVec 32 := Scalar.divsi v1805 c1_i32_1195
  let v1808 : BitVec 32 := Scalar.muli v1807 c1_i32_1195
  let v1809 : BitVec 32 := Scalar.addi v1543 v1808
  let c1_i32_1197 : BitVec 32 := 1#32
  let arg13 : BitVec 32 := Scf.iv v1809 c1_i32_1197 k3_t202
  let v1840 : Index := Scalar.indexCast arg13
  let c48_1209 : Index := 48#32
  ![v1840.toNat, 48]

def k3_chk5_0 (i : grid3.Coords) (v310 : BitVec 32) (v315 : BitVec 32) : Prop :=
  (∀ (k3_h5 : k3_cond5 i v310 v315 = 1#1), (k3_t9_loop i v310 v315).OK) ∧
  (∀ k3_t9 : Fin (k3_t9_loop i v310 v315).trips, ∀ (k3_h5 : k3_cond5 i v310 v315 = 1#1), ∀ a, (k3_off34 i v310 v315 k3_t9) a + S1x16.size a ≤ S256x128.size a) ∧
  (∀ k3_t9 : Fin (k3_t9_loop i v310 v315).trips, ∀ (k3_h5 : k3_cond5 i v310 v315 = 1#1), ∀ a, (k3_off35 i v310 v315 k3_t9) a + S1x16.size a ≤ S256x128.size a) ∧
  (∀ k3_t9 : Fin (k3_t9_loop i v310 v315).trips, ∀ (k3_h5 : k3_cond5 i v310 v315 = 1#1), ∀ a, (k3_off36 i v310 v315 k3_t9) a + S1x16.size a ≤ S256x128.size a) ∧
  (∀ k3_t9 : Fin (k3_t9_loop i v310 v315).trips, ∀ (k3_h5 : k3_cond5 i v310 v315 = 1#1), ∀ a, (k3_off37 i v310 v315 k3_t9) a + S1x16.size a ≤ S256x128.size a) ∧
  (∀ (k3_h5 : k3_cond5 i v310 v315 = 1#1), (k3_t10_loop i v310 v315).OK) ∧
  (∀ k3_t10 : Fin (k3_t10_loop i v310 v315).trips, ∀ (k3_h5 : k3_cond5 i v310 v315 = 1#1), ∀ a, (k3_off38 i v310 v315 k3_t10) a + S1x16.size a ≤ S256x128.size a) ∧
  (∀ k3_t10 : Fin (k3_t10_loop i v310 v315).trips, ∀ (k3_h5 : k3_cond5 i v310 v315 = 1#1), ∀ a, (k3_off39 i v310 v315 k3_t10) a + S1x16.size a ≤ S256x128.size a) ∧
  (∀ k3_t10 : Fin (k3_t10_loop i v310 v315).trips, ∀ (k3_h5 : k3_cond5 i v310 v315 = 1#1), ∀ a, (k3_off40 i v310 v315 k3_t10) a + S1x16.size a ≤ S256x128.size a) ∧
  (∀ k3_t10 : Fin (k3_t10_loop i v310 v315).trips, ∀ (k3_h5 : k3_cond5 i v310 v315 = 1#1), ∀ a, (k3_off41 i v310 v315 k3_t10) a + S1x16.size a ≤ S256x128.size a) ∧
  (∀ (k3_h37 : k3_cond37 i v310 v315 = 1#1), (k3_t73_loop i v310 v315).OK) ∧
  (∀ k3_t73 : Fin (k3_t73_loop i v310 v315).trips, ∀ (k3_h37 : k3_cond37 i v310 v315 = 1#1), ∀ a, (k3_off291 i v310 v315 k3_t73) a + S1x16.size a ≤ S256x128.size a) ∧
  (∀ k3_t73 : Fin (k3_t73_loop i v310 v315).trips, ∀ (k3_h37 : k3_cond37 i v310 v315 = 1#1), ∀ a, (k3_off292 i v310 v315 k3_t73) a + S1x16.size a ≤ S256x128.size a) ∧
  (∀ k3_t73 : Fin (k3_t73_loop i v310 v315).trips, ∀ (k3_h37 : k3_cond37 i v310 v315 = 1#1), ∀ a, (k3_off293 i v310 v315 k3_t73) a + S1x16.size a ≤ S256x128.size a) ∧
  (∀ k3_t73 : Fin (k3_t73_loop i v310 v315).trips, ∀ (k3_h37 : k3_cond37 i v310 v315 = 1#1), ∀ a, (k3_off294 i v310 v315 k3_t73) a + S1x16.size a ≤ S256x128.size a) ∧
  (∀ (k3_h37 : k3_cond37 i v310 v315 = 1#1), (k3_t74_loop i v310 v315).OK) ∧
  (∀ k3_t74 : Fin (k3_t74_loop i v310 v315).trips, ∀ (k3_h37 : k3_cond37 i v310 v315 = 1#1), ∀ a, (k3_off295 i v310 v315 k3_t74) a + S1x16.size a ≤ S256x128.size a) ∧
  (∀ k3_t74 : Fin (k3_t74_loop i v310 v315).trips, ∀ (k3_h37 : k3_cond37 i v310 v315 = 1#1), ∀ a, (k3_off296 i v310 v315 k3_t74) a + S1x16.size a ≤ S256x128.size a) ∧
  (∀ k3_t74 : Fin (k3_t74_loop i v310 v315).trips, ∀ (k3_h37 : k3_cond37 i v310 v315 = 1#1), ∀ a, (k3_off297 i v310 v315 k3_t74) a + S1x16.size a ≤ S256x128.size a) ∧
  (∀ k3_t74 : Fin (k3_t74_loop i v310 v315).trips, ∀ (k3_h37 : k3_cond37 i v310 v315 = 1#1), ∀ a, (k3_off298 i v310 v315 k3_t74) a + S1x16.size a ≤ S256x128.size a) ∧
  (∀ (k3_h69 : k3_cond69 i v310 v315 = 1#1), (k3_t137_loop i v310 v315).OK) ∧
  (∀ k3_t137 : Fin (k3_t137_loop i v310 v315).trips, ∀ (k3_h69 : k3_cond69 i v310 v315 = 1#1), ∀ a, (k3_off547 i v310 v315 k3_t137) a + S1x16.size a ≤ S256x128.size a) ∧
  (∀ k3_t137 : Fin (k3_t137_loop i v310 v315).trips, ∀ (k3_h69 : k3_cond69 i v310 v315 = 1#1), ∀ a, (k3_off548 i v310 v315 k3_t137) a + S1x16.size a ≤ S256x128.size a) ∧
  (∀ k3_t137 : Fin (k3_t137_loop i v310 v315).trips, ∀ (k3_h69 : k3_cond69 i v310 v315 = 1#1), ∀ a, (k3_off549 i v310 v315 k3_t137) a + S1x16.size a ≤ S256x128.size a) ∧
  (∀ k3_t137 : Fin (k3_t137_loop i v310 v315).trips, ∀ (k3_h69 : k3_cond69 i v310 v315 = 1#1), ∀ a, (k3_off550 i v310 v315 k3_t137) a + S1x16.size a ≤ S256x128.size a) ∧
  (∀ (k3_h69 : k3_cond69 i v310 v315 = 1#1), (k3_t138_loop i v310 v315).OK) ∧
  (∀ k3_t138 : Fin (k3_t138_loop i v310 v315).trips, ∀ (k3_h69 : k3_cond69 i v310 v315 = 1#1), ∀ a, (k3_off551 i v310 v315 k3_t138) a + S1x16.size a ≤ S256x128.size a) ∧
  (∀ k3_t138 : Fin (k3_t138_loop i v310 v315).trips, ∀ (k3_h69 : k3_cond69 i v310 v315 = 1#1), ∀ a, (k3_off552 i v310 v315 k3_t138) a + S1x16.size a ≤ S256x128.size a) ∧
  (∀ k3_t138 : Fin (k3_t138_loop i v310 v315).trips, ∀ (k3_h69 : k3_cond69 i v310 v315 = 1#1), ∀ a, (k3_off553 i v310 v315 k3_t138) a + S1x16.size a ≤ S256x128.size a) ∧
  (∀ k3_t138 : Fin (k3_t138_loop i v310 v315).trips, ∀ (k3_h69 : k3_cond69 i v310 v315 = 1#1), ∀ a, (k3_off554 i v310 v315 k3_t138) a + S1x16.size a ≤ S256x128.size a) ∧
  (∀ (k3_h101 : k3_cond101 i v310 v315 = 1#1), (k3_t201_loop i v310 v315).OK) ∧
  (∀ k3_t201 : Fin (k3_t201_loop i v310 v315).trips, ∀ (k3_h101 : k3_cond101 i v310 v315 = 1#1), ∀ a, (k3_off803 i v310 v315 k3_t201) a + S1x16.size a ≤ S256x128.size a)
def k3_chk5_1 (i : grid3.Coords) (v310 : BitVec 32) (v315 : BitVec 32) : Prop :=
  (∀ k3_t201 : Fin (k3_t201_loop i v310 v315).trips, ∀ (k3_h101 : k3_cond101 i v310 v315 = 1#1), ∀ a, (k3_off804 i v310 v315 k3_t201) a + S1x16.size a ≤ S256x128.size a) ∧
  (∀ k3_t201 : Fin (k3_t201_loop i v310 v315).trips, ∀ (k3_h101 : k3_cond101 i v310 v315 = 1#1), ∀ a, (k3_off805 i v310 v315 k3_t201) a + S1x16.size a ≤ S256x128.size a) ∧
  (∀ k3_t201 : Fin (k3_t201_loop i v310 v315).trips, ∀ (k3_h101 : k3_cond101 i v310 v315 = 1#1), ∀ a, (k3_off806 i v310 v315 k3_t201) a + S1x16.size a ≤ S256x128.size a) ∧
  (∀ (k3_h101 : k3_cond101 i v310 v315 = 1#1), (k3_t202_loop i v310 v315).OK) ∧
  (∀ k3_t202 : Fin (k3_t202_loop i v310 v315).trips, ∀ (k3_h101 : k3_cond101 i v310 v315 = 1#1), ∀ a, (k3_off807 i v310 v315 k3_t202) a + S1x16.size a ≤ S256x128.size a) ∧
  (∀ k3_t202 : Fin (k3_t202_loop i v310 v315).trips, ∀ (k3_h101 : k3_cond101 i v310 v315 = 1#1), ∀ a, (k3_off808 i v310 v315 k3_t202) a + S1x16.size a ≤ S256x128.size a) ∧
  (∀ k3_t202 : Fin (k3_t202_loop i v310 v315).trips, ∀ (k3_h101 : k3_cond101 i v310 v315 = 1#1), ∀ a, (k3_off809 i v310 v315 k3_t202) a + S1x16.size a ≤ S256x128.size a) ∧
  (∀ k3_t202 : Fin (k3_t202_loop i v310 v315).trips, ∀ (k3_h101 : k3_cond101 i v310 v315 = 1#1), ∀ a, (k3_off810 i v310 v315 k3_t202) a + S1x16.size a ≤ S256x128.size a)
def k3_chk5 (i : grid3.Coords) (v310 : BitVec 32) (v315 : BitVec 32) : Prop :=
  k3_chk5_0 i v310 v315 ∧
  k3_chk5_1 i v310 v315
theorem k3_t9_ok : ∀ (i : grid3.Coords) (v310 : BitVec 32) (v315 : BitVec 32) (k3_hw5 : k3_chk5 i v310 v315), ∀ (k3_h5 : k3_cond5 i v310 v315 = 1#1), (k3_t9_loop i v310 v315).OK := fun i v310 v315 k3_hw5 k3_h5 => k3_hw5.1.1 k3_h5
theorem k3_off34_inb : ∀ (i : grid3.Coords) (v310 : BitVec 32) (v315 : BitVec 32) (k3_hw5 : k3_chk5 i v310 v315) (k3_t9 : Fin (k3_t9_loop i v310 v315).trips), ∀ (k3_h5 : k3_cond5 i v310 v315 = 1#1), ∀ a, (k3_off34 i v310 v315 k3_t9) a + S1x16.size a ≤ S256x128.size a := fun i v310 v315 k3_hw5 k3_t9 k3_h5 => k3_hw5.1.2.1 k3_t9 k3_h5
theorem k3_off35_inb : ∀ (i : grid3.Coords) (v310 : BitVec 32) (v315 : BitVec 32) (k3_hw5 : k3_chk5 i v310 v315) (k3_t9 : Fin (k3_t9_loop i v310 v315).trips), ∀ (k3_h5 : k3_cond5 i v310 v315 = 1#1), ∀ a, (k3_off35 i v310 v315 k3_t9) a + S1x16.size a ≤ S256x128.size a := fun i v310 v315 k3_hw5 k3_t9 k3_h5 => k3_hw5.1.2.2.1 k3_t9 k3_h5
theorem k3_off36_inb : ∀ (i : grid3.Coords) (v310 : BitVec 32) (v315 : BitVec 32) (k3_hw5 : k3_chk5 i v310 v315) (k3_t9 : Fin (k3_t9_loop i v310 v315).trips), ∀ (k3_h5 : k3_cond5 i v310 v315 = 1#1), ∀ a, (k3_off36 i v310 v315 k3_t9) a + S1x16.size a ≤ S256x128.size a := fun i v310 v315 k3_hw5 k3_t9 k3_h5 => k3_hw5.1.2.2.2.1 k3_t9 k3_h5
theorem k3_off37_inb : ∀ (i : grid3.Coords) (v310 : BitVec 32) (v315 : BitVec 32) (k3_hw5 : k3_chk5 i v310 v315) (k3_t9 : Fin (k3_t9_loop i v310 v315).trips), ∀ (k3_h5 : k3_cond5 i v310 v315 = 1#1), ∀ a, (k3_off37 i v310 v315 k3_t9) a + S1x16.size a ≤ S256x128.size a := fun i v310 v315 k3_hw5 k3_t9 k3_h5 => k3_hw5.1.2.2.2.2.1 k3_t9 k3_h5
theorem k3_t10_ok : ∀ (i : grid3.Coords) (v310 : BitVec 32) (v315 : BitVec 32) (k3_hw5 : k3_chk5 i v310 v315), ∀ (k3_h5 : k3_cond5 i v310 v315 = 1#1), (k3_t10_loop i v310 v315).OK := fun i v310 v315 k3_hw5 k3_h5 => k3_hw5.1.2.2.2.2.2.1 k3_h5
theorem k3_off38_inb : ∀ (i : grid3.Coords) (v310 : BitVec 32) (v315 : BitVec 32) (k3_hw5 : k3_chk5 i v310 v315) (k3_t10 : Fin (k3_t10_loop i v310 v315).trips), ∀ (k3_h5 : k3_cond5 i v310 v315 = 1#1), ∀ a, (k3_off38 i v310 v315 k3_t10) a + S1x16.size a ≤ S256x128.size a := fun i v310 v315 k3_hw5 k3_t10 k3_h5 => k3_hw5.1.2.2.2.2.2.2.1 k3_t10 k3_h5
theorem k3_off39_inb : ∀ (i : grid3.Coords) (v310 : BitVec 32) (v315 : BitVec 32) (k3_hw5 : k3_chk5 i v310 v315) (k3_t10 : Fin (k3_t10_loop i v310 v315).trips), ∀ (k3_h5 : k3_cond5 i v310 v315 = 1#1), ∀ a, (k3_off39 i v310 v315 k3_t10) a + S1x16.size a ≤ S256x128.size a := fun i v310 v315 k3_hw5 k3_t10 k3_h5 => k3_hw5.1.2.2.2.2.2.2.2.1 k3_t10 k3_h5
theorem k3_off40_inb : ∀ (i : grid3.Coords) (v310 : BitVec 32) (v315 : BitVec 32) (k3_hw5 : k3_chk5 i v310 v315) (k3_t10 : Fin (k3_t10_loop i v310 v315).trips), ∀ (k3_h5 : k3_cond5 i v310 v315 = 1#1), ∀ a, (k3_off40 i v310 v315 k3_t10) a + S1x16.size a ≤ S256x128.size a := fun i v310 v315 k3_hw5 k3_t10 k3_h5 => k3_hw5.1.2.2.2.2.2.2.2.2.1 k3_t10 k3_h5
theorem k3_off41_inb : ∀ (i : grid3.Coords) (v310 : BitVec 32) (v315 : BitVec 32) (k3_hw5 : k3_chk5 i v310 v315) (k3_t10 : Fin (k3_t10_loop i v310 v315).trips), ∀ (k3_h5 : k3_cond5 i v310 v315 = 1#1), ∀ a, (k3_off41 i v310 v315 k3_t10) a + S1x16.size a ≤ S256x128.size a := fun i v310 v315 k3_hw5 k3_t10 k3_h5 => k3_hw5.1.2.2.2.2.2.2.2.2.2.1 k3_t10 k3_h5
theorem k3_t73_ok : ∀ (i : grid3.Coords) (v310 : BitVec 32) (v315 : BitVec 32) (k3_hw5 : k3_chk5 i v310 v315), ∀ (k3_h37 : k3_cond37 i v310 v315 = 1#1), (k3_t73_loop i v310 v315).OK := fun i v310 v315 k3_hw5 k3_h37 => k3_hw5.1.2.2.2.2.2.2.2.2.2.2.1 k3_h37
theorem k3_off291_inb : ∀ (i : grid3.Coords) (v310 : BitVec 32) (v315 : BitVec 32) (k3_hw5 : k3_chk5 i v310 v315) (k3_t73 : Fin (k3_t73_loop i v310 v315).trips), ∀ (k3_h37 : k3_cond37 i v310 v315 = 1#1), ∀ a, (k3_off291 i v310 v315 k3_t73) a + S1x16.size a ≤ S256x128.size a := fun i v310 v315 k3_hw5 k3_t73 k3_h37 => k3_hw5.1.2.2.2.2.2.2.2.2.2.2.2.1 k3_t73 k3_h37
theorem k3_off292_inb : ∀ (i : grid3.Coords) (v310 : BitVec 32) (v315 : BitVec 32) (k3_hw5 : k3_chk5 i v310 v315) (k3_t73 : Fin (k3_t73_loop i v310 v315).trips), ∀ (k3_h37 : k3_cond37 i v310 v315 = 1#1), ∀ a, (k3_off292 i v310 v315 k3_t73) a + S1x16.size a ≤ S256x128.size a := fun i v310 v315 k3_hw5 k3_t73 k3_h37 => k3_hw5.1.2.2.2.2.2.2.2.2.2.2.2.2.1 k3_t73 k3_h37
theorem k3_off293_inb : ∀ (i : grid3.Coords) (v310 : BitVec 32) (v315 : BitVec 32) (k3_hw5 : k3_chk5 i v310 v315) (k3_t73 : Fin (k3_t73_loop i v310 v315).trips), ∀ (k3_h37 : k3_cond37 i v310 v315 = 1#1), ∀ a, (k3_off293 i v310 v315 k3_t73) a + S1x16.size a ≤ S256x128.size a := fun i v310 v315 k3_hw5 k3_t73 k3_h37 => k3_hw5.1.2.2.2.2.2.2.2.2.2.2.2.2.2.1 k3_t73 k3_h37
theorem k3_off294_inb : ∀ (i : grid3.Coords) (v310 : BitVec 32) (v315 : BitVec 32) (k3_hw5 : k3_chk5 i v310 v315) (k3_t73 : Fin (k3_t73_loop i v310 v315).trips), ∀ (k3_h37 : k3_cond37 i v310 v315 = 1#1), ∀ a, (k3_off294 i v310 v315 k3_t73) a + S1x16.size a ≤ S256x128.size a := fun i v310 v315 k3_hw5 k3_t73 k3_h37 => k3_hw5.1.2.2.2.2.2.2.2.2.2.2.2.2.2.2.1 k3_t73 k3_h37
theorem k3_t74_ok : ∀ (i : grid3.Coords) (v310 : BitVec 32) (v315 : BitVec 32) (k3_hw5 : k3_chk5 i v310 v315), ∀ (k3_h37 : k3_cond37 i v310 v315 = 1#1), (k3_t74_loop i v310 v315).OK := fun i v310 v315 k3_hw5 k3_h37 => k3_hw5.1.2.2.2.2.2.2.2.2.2.2.2.2.2.2.2.1 k3_h37
theorem k3_off295_inb : ∀ (i : grid3.Coords) (v310 : BitVec 32) (v315 : BitVec 32) (k3_hw5 : k3_chk5 i v310 v315) (k3_t74 : Fin (k3_t74_loop i v310 v315).trips), ∀ (k3_h37 : k3_cond37 i v310 v315 = 1#1), ∀ a, (k3_off295 i v310 v315 k3_t74) a + S1x16.size a ≤ S256x128.size a := fun i v310 v315 k3_hw5 k3_t74 k3_h37 => k3_hw5.1.2.2.2.2.2.2.2.2.2.2.2.2.2.2.2.2.1 k3_t74 k3_h37
theorem k3_off296_inb : ∀ (i : grid3.Coords) (v310 : BitVec 32) (v315 : BitVec 32) (k3_hw5 : k3_chk5 i v310 v315) (k3_t74 : Fin (k3_t74_loop i v310 v315).trips), ∀ (k3_h37 : k3_cond37 i v310 v315 = 1#1), ∀ a, (k3_off296 i v310 v315 k3_t74) a + S1x16.size a ≤ S256x128.size a := fun i v310 v315 k3_hw5 k3_t74 k3_h37 => k3_hw5.1.2.2.2.2.2.2.2.2.2.2.2.2.2.2.2.2.2.1 k3_t74 k3_h37
theorem k3_off297_inb : ∀ (i : grid3.Coords) (v310 : BitVec 32) (v315 : BitVec 32) (k3_hw5 : k3_chk5 i v310 v315) (k3_t74 : Fin (k3_t74_loop i v310 v315).trips), ∀ (k3_h37 : k3_cond37 i v310 v315 = 1#1), ∀ a, (k3_off297 i v310 v315 k3_t74) a + S1x16.size a ≤ S256x128.size a := fun i v310 v315 k3_hw5 k3_t74 k3_h37 => k3_hw5.1.2.2.2.2.2.2.2.2.2.2.2.2.2.2.2.2.2.2.1 k3_t74 k3_h37
theorem k3_off298_inb : ∀ (i : grid3.Coords) (v310 : BitVec 32) (v315 : BitVec 32) (k3_hw5 : k3_chk5 i v310 v315) (k3_t74 : Fin (k3_t74_loop i v310 v315).trips), ∀ (k3_h37 : k3_cond37 i v310 v315 = 1#1), ∀ a, (k3_off298 i v310 v315 k3_t74) a + S1x16.size a ≤ S256x128.size a := fun i v310 v315 k3_hw5 k3_t74 k3_h37 => k3_hw5.1.2.2.2.2.2.2.2.2.2.2.2.2.2.2.2.2.2.2.2.1 k3_t74 k3_h37
theorem k3_t137_ok : ∀ (i : grid3.Coords) (v310 : BitVec 32) (v315 : BitVec 32) (k3_hw5 : k3_chk5 i v310 v315), ∀ (k3_h69 : k3_cond69 i v310 v315 = 1#1), (k3_t137_loop i v310 v315).OK := fun i v310 v315 k3_hw5 k3_h69 => k3_hw5.1.2.2.2.2.2.2.2.2.2.2.2.2.2.2.2.2.2.2.2.2.1 k3_h69
theorem k3_off547_inb : ∀ (i : grid3.Coords) (v310 : BitVec 32) (v315 : BitVec 32) (k3_hw5 : k3_chk5 i v310 v315) (k3_t137 : Fin (k3_t137_loop i v310 v315).trips), ∀ (k3_h69 : k3_cond69 i v310 v315 = 1#1), ∀ a, (k3_off547 i v310 v315 k3_t137) a + S1x16.size a ≤ S256x128.size a := fun i v310 v315 k3_hw5 k3_t137 k3_h69 => k3_hw5.1.2.2.2.2.2.2.2.2.2.2.2.2.2.2.2.2.2.2.2.2.2.1 k3_t137 k3_h69
theorem k3_off548_inb : ∀ (i : grid3.Coords) (v310 : BitVec 32) (v315 : BitVec 32) (k3_hw5 : k3_chk5 i v310 v315) (k3_t137 : Fin (k3_t137_loop i v310 v315).trips), ∀ (k3_h69 : k3_cond69 i v310 v315 = 1#1), ∀ a, (k3_off548 i v310 v315 k3_t137) a + S1x16.size a ≤ S256x128.size a := fun i v310 v315 k3_hw5 k3_t137 k3_h69 => k3_hw5.1.2.2.2.2.2.2.2.2.2.2.2.2.2.2.2.2.2.2.2.2.2.2.1 k3_t137 k3_h69
theorem k3_off549_inb : ∀ (i : grid3.Coords) (v310 : BitVec 32) (v315 : BitVec 32) (k3_hw5 : k3_chk5 i v310 v315) (k3_t137 : Fin (k3_t137_loop i v310 v315).trips), ∀ (k3_h69 : k3_cond69 i v310 v315 = 1#1), ∀ a, (k3_off549 i v310 v315 k3_t137) a + S1x16.size a ≤ S256x128.size a := fun i v310 v315 k3_hw5 k3_t137 k3_h69 => k3_hw5.1.2.2.2.2.2.2.2.2.2.2.2.2.2.2.2.2.2.2.2.2.2.2.2.1 k3_t137 k3_h69
theorem k3_off550_inb : ∀ (i : grid3.Coords) (v310 : BitVec 32) (v315 : BitVec 32) (k3_hw5 : k3_chk5 i v310 v315) (k3_t137 : Fin (k3_t137_loop i v310 v315).trips), ∀ (k3_h69 : k3_cond69 i v310 v315 = 1#1), ∀ a, (k3_off550 i v310 v315 k3_t137) a + S1x16.size a ≤ S256x128.size a := fun i v310 v315 k3_hw5 k3_t137 k3_h69 => k3_hw5.1.2.2.2.2.2.2.2.2.2.2.2.2.2.2.2.2.2.2.2.2.2.2.2.2.1 k3_t137 k3_h69
theorem k3_t138_ok : ∀ (i : grid3.Coords) (v310 : BitVec 32) (v315 : BitVec 32) (k3_hw5 : k3_chk5 i v310 v315), ∀ (k3_h69 : k3_cond69 i v310 v315 = 1#1), (k3_t138_loop i v310 v315).OK := fun i v310 v315 k3_hw5 k3_h69 => k3_hw5.1.2.2.2.2.2.2.2.2.2.2.2.2.2.2.2.2.2.2.2.2.2.2.2.2.2.1 k3_h69
theorem k3_off551_inb : ∀ (i : grid3.Coords) (v310 : BitVec 32) (v315 : BitVec 32) (k3_hw5 : k3_chk5 i v310 v315) (k3_t138 : Fin (k3_t138_loop i v310 v315).trips), ∀ (k3_h69 : k3_cond69 i v310 v315 = 1#1), ∀ a, (k3_off551 i v310 v315 k3_t138) a + S1x16.size a ≤ S256x128.size a := fun i v310 v315 k3_hw5 k3_t138 k3_h69 => k3_hw5.1.2.2.2.2.2.2.2.2.2.2.2.2.2.2.2.2.2.2.2.2.2.2.2.2.2.2.1 k3_t138 k3_h69
theorem k3_off552_inb : ∀ (i : grid3.Coords) (v310 : BitVec 32) (v315 : BitVec 32) (k3_hw5 : k3_chk5 i v310 v315) (k3_t138 : Fin (k3_t138_loop i v310 v315).trips), ∀ (k3_h69 : k3_cond69 i v310 v315 = 1#1), ∀ a, (k3_off552 i v310 v315 k3_t138) a + S1x16.size a ≤ S256x128.size a := fun i v310 v315 k3_hw5 k3_t138 k3_h69 => k3_hw5.1.2.2.2.2.2.2.2.2.2.2.2.2.2.2.2.2.2.2.2.2.2.2.2.2.2.2.2.1 k3_t138 k3_h69
theorem k3_off553_inb : ∀ (i : grid3.Coords) (v310 : BitVec 32) (v315 : BitVec 32) (k3_hw5 : k3_chk5 i v310 v315) (k3_t138 : Fin (k3_t138_loop i v310 v315).trips), ∀ (k3_h69 : k3_cond69 i v310 v315 = 1#1), ∀ a, (k3_off553 i v310 v315 k3_t138) a + S1x16.size a ≤ S256x128.size a := fun i v310 v315 k3_hw5 k3_t138 k3_h69 => k3_hw5.1.2.2.2.2.2.2.2.2.2.2.2.2.2.2.2.2.2.2.2.2.2.2.2.2.2.2.2.2.1 k3_t138 k3_h69
theorem k3_off554_inb : ∀ (i : grid3.Coords) (v310 : BitVec 32) (v315 : BitVec 32) (k3_hw5 : k3_chk5 i v310 v315) (k3_t138 : Fin (k3_t138_loop i v310 v315).trips), ∀ (k3_h69 : k3_cond69 i v310 v315 = 1#1), ∀ a, (k3_off554 i v310 v315 k3_t138) a + S1x16.size a ≤ S256x128.size a := fun i v310 v315 k3_hw5 k3_t138 k3_h69 => k3_hw5.1.2.2.2.2.2.2.2.2.2.2.2.2.2.2.2.2.2.2.2.2.2.2.2.2.2.2.2.2.2.1 k3_t138 k3_h69
theorem k3_t201_ok : ∀ (i : grid3.Coords) (v310 : BitVec 32) (v315 : BitVec 32) (k3_hw5 : k3_chk5 i v310 v315), ∀ (k3_h101 : k3_cond101 i v310 v315 = 1#1), (k3_t201_loop i v310 v315).OK := fun i v310 v315 k3_hw5 k3_h101 => k3_hw5.1.2.2.2.2.2.2.2.2.2.2.2.2.2.2.2.2.2.2.2.2.2.2.2.2.2.2.2.2.2.2.1 k3_h101
theorem k3_off803_inb : ∀ (i : grid3.Coords) (v310 : BitVec 32) (v315 : BitVec 32) (k3_hw5 : k3_chk5 i v310 v315) (k3_t201 : Fin (k3_t201_loop i v310 v315).trips), ∀ (k3_h101 : k3_cond101 i v310 v315 = 1#1), ∀ a, (k3_off803 i v310 v315 k3_t201) a + S1x16.size a ≤ S256x128.size a := fun i v310 v315 k3_hw5 k3_t201 k3_h101 => k3_hw5.1.2.2.2.2.2.2.2.2.2.2.2.2.2.2.2.2.2.2.2.2.2.2.2.2.2.2.2.2.2.2.2 k3_t201 k3_h101
theorem k3_off804_inb : ∀ (i : grid3.Coords) (v310 : BitVec 32) (v315 : BitVec 32) (k3_hw5 : k3_chk5 i v310 v315) (k3_t201 : Fin (k3_t201_loop i v310 v315).trips), ∀ (k3_h101 : k3_cond101 i v310 v315 = 1#1), ∀ a, (k3_off804 i v310 v315 k3_t201) a + S1x16.size a ≤ S256x128.size a := fun i v310 v315 k3_hw5 k3_t201 k3_h101 => k3_hw5.2.1 k3_t201 k3_h101
theorem k3_off805_inb : ∀ (i : grid3.Coords) (v310 : BitVec 32) (v315 : BitVec 32) (k3_hw5 : k3_chk5 i v310 v315) (k3_t201 : Fin (k3_t201_loop i v310 v315).trips), ∀ (k3_h101 : k3_cond101 i v310 v315 = 1#1), ∀ a, (k3_off805 i v310 v315 k3_t201) a + S1x16.size a ≤ S256x128.size a := fun i v310 v315 k3_hw5 k3_t201 k3_h101 => k3_hw5.2.2.1 k3_t201 k3_h101
theorem k3_off806_inb : ∀ (i : grid3.Coords) (v310 : BitVec 32) (v315 : BitVec 32) (k3_hw5 : k3_chk5 i v310 v315) (k3_t201 : Fin (k3_t201_loop i v310 v315).trips), ∀ (k3_h101 : k3_cond101 i v310 v315 = 1#1), ∀ a, (k3_off806 i v310 v315 k3_t201) a + S1x16.size a ≤ S256x128.size a := fun i v310 v315 k3_hw5 k3_t201 k3_h101 => k3_hw5.2.2.2.1 k3_t201 k3_h101
theorem k3_t202_ok : ∀ (i : grid3.Coords) (v310 : BitVec 32) (v315 : BitVec 32) (k3_hw5 : k3_chk5 i v310 v315), ∀ (k3_h101 : k3_cond101 i v310 v315 = 1#1), (k3_t202_loop i v310 v315).OK := fun i v310 v315 k3_hw5 k3_h101 => k3_hw5.2.2.2.2.1 k3_h101
theorem k3_off807_inb : ∀ (i : grid3.Coords) (v310 : BitVec 32) (v315 : BitVec 32) (k3_hw5 : k3_chk5 i v310 v315) (k3_t202 : Fin (k3_t202_loop i v310 v315).trips), ∀ (k3_h101 : k3_cond101 i v310 v315 = 1#1), ∀ a, (k3_off807 i v310 v315 k3_t202) a + S1x16.size a ≤ S256x128.size a := fun i v310 v315 k3_hw5 k3_t202 k3_h101 => k3_hw5.2.2.2.2.2.1 k3_t202 k3_h101
theorem k3_off808_inb : ∀ (i : grid3.Coords) (v310 : BitVec 32) (v315 : BitVec 32) (k3_hw5 : k3_chk5 i v310 v315) (k3_t202 : Fin (k3_t202_loop i v310 v315).trips), ∀ (k3_h101 : k3_cond101 i v310 v315 = 1#1), ∀ a, (k3_off808 i v310 v315 k3_t202) a + S1x16.size a ≤ S256x128.size a := fun i v310 v315 k3_hw5 k3_t202 k3_h101 => k3_hw5.2.2.2.2.2.2.1 k3_t202 k3_h101
theorem k3_off809_inb : ∀ (i : grid3.Coords) (v310 : BitVec 32) (v315 : BitVec 32) (k3_hw5 : k3_chk5 i v310 v315) (k3_t202 : Fin (k3_t202_loop i v310 v315).trips), ∀ (k3_h101 : k3_cond101 i v310 v315 = 1#1), ∀ a, (k3_off809 i v310 v315 k3_t202) a + S1x16.size a ≤ S256x128.size a := fun i v310 v315 k3_hw5 k3_t202 k3_h101 => k3_hw5.2.2.2.2.2.2.2.1 k3_t202 k3_h101
theorem k3_off810_inb : ∀ (i : grid3.Coords) (v310 : BitVec 32) (v315 : BitVec 32) (k3_hw5 : k3_chk5 i v310 v315) (k3_t202 : Fin (k3_t202_loop i v310 v315).trips), ∀ (k3_h101 : k3_cond101 i v310 v315 = 1#1), ∀ a, (k3_off810 i v310 v315 k3_t202) a + S1x16.size a ≤ S256x128.size a := fun i v310 v315 k3_hw5 k3_t202 k3_h101 => k3_hw5.2.2.2.2.2.2.2.2 k3_t202 k3_h101

@[reducible] def k3_t203_loop (i : grid3.Coords) (v320 : BitVec 32) (v326 : BitVec 32) : Scf.Loop 32 :=
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let c256_i32_1003 : BitVec 32 := 256#32
  let c0_i32_1002 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c768_i32_1001 : BitVec 32 := 768#32
  let v1553 : BitVec 32 := Scalar.subi v330 c768_i32_1001
  let v1554 : BitVec 32 := Scalar.maxsi c0_i32_1002 v1553
  let v1555 : BitVec 32 := Scalar.minsi c256_i32_1003 v1554
  let v1805 : BitVec 32 := Scalar.subi v1555 v1552
  let c1_i32_1195 : BitVec 32 := 1#32
  let v1807 : BitVec 32 := Scalar.divsi v1805 c1_i32_1195
  let v1808 : BitVec 32 := Scalar.muli v1807 c1_i32_1195
  let v1809 : BitVec 32 := Scalar.addi v1552 v1808
  let c1_i32_1196 : BitVec 32 := 1#32
  ⟨v1552, v1809, c1_i32_1196⟩
def k3_cond102 (i : grid3.Coords) (v320 : BitVec 32) (v326 : BitVec 32) : BitVec 1 :=
  let c256_i32_1003 : BitVec 32 := 256#32
  let c0_i32_1002 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v328 : BitVec 32 := Scalar.subi v327 v3
  let v329 : BitVec 32 := Scalar.maxsi c0_i32_138 v328
  let v330 : BitVec 32 := Scalar.minsi c1024_i32_139 v329
  let c768_i32_1001 : BitVec 32 := 768#32
  let v1553 : BitVec 32 := Scalar.subi v330 c768_i32_1001
  let v1554 : BitVec 32 := Scalar.maxsi c0_i32_1002 v1553
  let v1555 : BitVec 32 := Scalar.minsi c256_i32_1003 v1554
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let v1556 : BitVec 1 := Scalar.cmpi .sgt v1555 v1552
  let v1557 : BitVec 32 := Scalar.extui v1556
  let c0_i32_1004 : BitVec 32 := 0#32
  let v1558 : BitVec 1 := Scalar.cmpi .ne v1557 c0_i32_1004
  v1558

def k3_off811 (i : grid3.Coords) (v320 : BitVec 32) (v326 : BitVec 32) (k3_t203 : Fin (k3_t203_loop i v320 v326).trips) : Fin 2 → Nat :=
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let c1_i32_1196 : BitVec 32 := 1#32
  let arg13 : BitVec 32 := Scf.iv v1552 c1_i32_1196 k3_t203
  let v1828 : Index := Scalar.indexCast arg13
  let c64 : Index := 64#32
  ![v1828.toNat, 64]
def k3_off812 (i : grid3.Coords) (v320 : BitVec 32) (v326 : BitVec 32) (k3_t203 : Fin (k3_t203_loop i v320 v326).trips) : Fin 2 → Nat :=
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let c1_i32_1196 : BitVec 32 := 1#32
  let arg13 : BitVec 32 := Scf.iv v1552 c1_i32_1196 k3_t203
  let v1832 : Index := Scalar.indexCast arg13
  let c80 : Index := 80#32
  ![v1832.toNat, 80]
def k3_off813 (i : grid3.Coords) (v320 : BitVec 32) (v326 : BitVec 32) (k3_t203 : Fin (k3_t203_loop i v320 v326).trips) : Fin 2 → Nat :=
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let c1_i32_1196 : BitVec 32 := 1#32
  let arg13 : BitVec 32 := Scf.iv v1552 c1_i32_1196 k3_t203
  let v1836 : Index := Scalar.indexCast arg13
  let c96 : Index := 96#32
  ![v1836.toNat, 96]
def k3_off814 (i : grid3.Coords) (v320 : BitVec 32) (v326 : BitVec 32) (k3_t203 : Fin (k3_t203_loop i v320 v326).trips) : Fin 2 → Nat :=
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let c1_i32_1196 : BitVec 32 := 1#32
  let arg13 : BitVec 32 := Scf.iv v1552 c1_i32_1196 k3_t203
  let v1840 : Index := Scalar.indexCast arg13
  let c112 : Index := 112#32
  ![v1840.toNat, 112]
@[reducible] def k3_t204_loop (i : grid3.Coords) (v320 : BitVec 32) (v326 : BitVec 32) : Scf.Loop 32 :=
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let c256_i32_1003 : BitVec 32 := 256#32
  let c0_i32_1002 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c768_i32_1001 : BitVec 32 := 768#32
  let v1553 : BitVec 32 := Scalar.subi v330 c768_i32_1001
  let v1554 : BitVec 32 := Scalar.maxsi c0_i32_1002 v1553
  let v1555 : BitVec 32 := Scalar.minsi c256_i32_1003 v1554
  let v1805 : BitVec 32 := Scalar.subi v1555 v1552
  let c1_i32_1195 : BitVec 32 := 1#32
  let v1807 : BitVec 32 := Scalar.divsi v1805 c1_i32_1195
  let v1808 : BitVec 32 := Scalar.muli v1807 c1_i32_1195
  let v1809 : BitVec 32 := Scalar.addi v1552 v1808
  let v1806 : BitVec 32 := Scalar.addi v1552 v1805
  let c1_i32_1197 : BitVec 32 := 1#32
  ⟨v1809, v1806, c1_i32_1197⟩
def k3_off815 (i : grid3.Coords) (v320 : BitVec 32) (v326 : BitVec 32) (k3_t204 : Fin (k3_t204_loop i v320 v326).trips) : Fin 2 → Nat :=
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let c256_i32_1003 : BitVec 32 := 256#32
  let c0_i32_1002 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c768_i32_1001 : BitVec 32 := 768#32
  let v1553 : BitVec 32 := Scalar.subi v330 c768_i32_1001
  let v1554 : BitVec 32 := Scalar.maxsi c0_i32_1002 v1553
  let v1555 : BitVec 32 := Scalar.minsi c256_i32_1003 v1554
  let v1805 : BitVec 32 := Scalar.subi v1555 v1552
  let c1_i32_1195 : BitVec 32 := 1#32
  let v1807 : BitVec 32 := Scalar.divsi v1805 c1_i32_1195
  let v1808 : BitVec 32 := Scalar.muli v1807 c1_i32_1195
  let v1809 : BitVec 32 := Scalar.addi v1552 v1808
  let c1_i32_1197 : BitVec 32 := 1#32
  let arg13 : BitVec 32 := Scf.iv v1809 c1_i32_1197 k3_t204
  let v1828 : Index := Scalar.indexCast arg13
  let c64 : Index := 64#32
  ![v1828.toNat, 64]
def k3_off816 (i : grid3.Coords) (v320 : BitVec 32) (v326 : BitVec 32) (k3_t204 : Fin (k3_t204_loop i v320 v326).trips) : Fin 2 → Nat :=
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let c256_i32_1003 : BitVec 32 := 256#32
  let c0_i32_1002 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c768_i32_1001 : BitVec 32 := 768#32
  let v1553 : BitVec 32 := Scalar.subi v330 c768_i32_1001
  let v1554 : BitVec 32 := Scalar.maxsi c0_i32_1002 v1553
  let v1555 : BitVec 32 := Scalar.minsi c256_i32_1003 v1554
  let v1805 : BitVec 32 := Scalar.subi v1555 v1552
  let c1_i32_1195 : BitVec 32 := 1#32
  let v1807 : BitVec 32 := Scalar.divsi v1805 c1_i32_1195
  let v1808 : BitVec 32 := Scalar.muli v1807 c1_i32_1195
  let v1809 : BitVec 32 := Scalar.addi v1552 v1808
  let c1_i32_1197 : BitVec 32 := 1#32
  let arg13 : BitVec 32 := Scf.iv v1809 c1_i32_1197 k3_t204
  let v1832 : Index := Scalar.indexCast arg13
  let c80 : Index := 80#32
  ![v1832.toNat, 80]
def k3_off817 (i : grid3.Coords) (v320 : BitVec 32) (v326 : BitVec 32) (k3_t204 : Fin (k3_t204_loop i v320 v326).trips) : Fin 2 → Nat :=
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let c256_i32_1003 : BitVec 32 := 256#32
  let c0_i32_1002 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c768_i32_1001 : BitVec 32 := 768#32
  let v1553 : BitVec 32 := Scalar.subi v330 c768_i32_1001
  let v1554 : BitVec 32 := Scalar.maxsi c0_i32_1002 v1553
  let v1555 : BitVec 32 := Scalar.minsi c256_i32_1003 v1554
  let v1805 : BitVec 32 := Scalar.subi v1555 v1552
  let c1_i32_1195 : BitVec 32 := 1#32
  let v1807 : BitVec 32 := Scalar.divsi v1805 c1_i32_1195
  let v1808 : BitVec 32 := Scalar.muli v1807 c1_i32_1195
  let v1809 : BitVec 32 := Scalar.addi v1552 v1808
  let c1_i32_1197 : BitVec 32 := 1#32
  let arg13 : BitVec 32 := Scf.iv v1809 c1_i32_1197 k3_t204
  let v1836 : Index := Scalar.indexCast arg13
  let c96 : Index := 96#32
  ![v1836.toNat, 96]
def k3_off818 (i : grid3.Coords) (v320 : BitVec 32) (v326 : BitVec 32) (k3_t204 : Fin (k3_t204_loop i v320 v326).trips) : Fin 2 → Nat :=
  let c256_i32_1000 : BitVec 32 := 256#32
  let c0_i32_999 : BitVec 32 := 0#32
  let c1024_i32_136 : BitVec 32 := 1024#32
  let c0_i32_135 : BitVec 32 := 0#32
  let c65536_i32_134 : BitVec 32 := 65536#32
  let v321 : BitVec 32 := Scalar.subi v320 c65536_i32_134
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v322 : BitVec 32 := Scalar.subi v321 v3
  let v323 : BitVec 32 := Scalar.maxsi c0_i32_135 v322
  let v324 : BitVec 32 := Scalar.minsi c1024_i32_136 v323
  let c768_i32_998 : BitVec 32 := 768#32
  let v1550 : BitVec 32 := Scalar.subi v324 c768_i32_998
  let v1551 : BitVec 32 := Scalar.maxsi c0_i32_999 v1550
  let v1552 : BitVec 32 := Scalar.minsi c256_i32_1000 v1551
  let c256_i32_1003 : BitVec 32 := 256#32
  let c0_i32_1002 : BitVec 32 := 0#32
  let c1024_i32_139 : BitVec 32 := 1024#32
  let c0_i32_138 : BitVec 32 := 0#32
  let c65536_i32_137 : BitVec 32 := 65536#32
  let v327 : BitVec 32 := Scalar.subi v326 c65536_i32_137
  let v328 : BitVec 32 := Scalar.subi v327 v3
  let v329 : BitVec 32 := Scalar.maxsi c0_i32_138 v328
  let v330 : BitVec 32 := Scalar.minsi c1024_i32_139 v329
  let c768_i32_1001 : BitVec 32 := 768#32
  let v1553 : BitVec 32 := Scalar.subi v330 c768_i32_1001
  let v1554 : BitVec 32 := Scalar.maxsi c0_i32_1002 v1553
  let v1555 : BitVec 32 := Scalar.minsi c256_i32_1003 v1554
  let v1805 : BitVec 32 := Scalar.subi v1555 v1552
  let c1_i32_1195 : BitVec 32 := 1#32
  let v1807 : BitVec 32 := Scalar.divsi v1805 c1_i32_1195
  let v1808 : BitVec 32 := Scalar.muli v1807 c1_i32_1195
  let v1809 : BitVec 32 := Scalar.addi v1552 v1808
  let c1_i32_1197 : BitVec 32 := 1#32
  let arg13 : BitVec 32 := Scf.iv v1809 c1_i32_1197 k3_t204
  let v1840 : Index := Scalar.indexCast arg13
  let c112 : Index := 112#32
  ![v1840.toNat, 112]

def k3_chk6_0 (i : grid3.Coords) (v320 : BitVec 32) (v326 : BitVec 32) : Prop :=
  (∀ (k3_h6 : k3_cond6 i v320 v326 = 1#1), (k3_t11_loop i v320 v326).OK) ∧
  (∀ k3_t11 : Fin (k3_t11_loop i v320 v326).trips, ∀ (k3_h6 : k3_cond6 i v320 v326 = 1#1), ∀ a, (k3_off42 i v320 v326 k3_t11) a + S1x16.size a ≤ S256x128.size a) ∧
  (∀ k3_t11 : Fin (k3_t11_loop i v320 v326).trips, ∀ (k3_h6 : k3_cond6 i v320 v326 = 1#1), ∀ a, (k3_off43 i v320 v326 k3_t11) a + S1x16.size a ≤ S256x128.size a) ∧
  (∀ k3_t11 : Fin (k3_t11_loop i v320 v326).trips, ∀ (k3_h6 : k3_cond6 i v320 v326 = 1#1), ∀ a, (k3_off44 i v320 v326 k3_t11) a + S1x16.size a ≤ S256x128.size a) ∧
  (∀ k3_t11 : Fin (k3_t11_loop i v320 v326).trips, ∀ (k3_h6 : k3_cond6 i v320 v326 = 1#1), ∀ a, (k3_off45 i v320 v326 k3_t11) a + S1x16.size a ≤ S256x128.size a) ∧
  (∀ (k3_h6 : k3_cond6 i v320 v326 = 1#1), (k3_t12_loop i v320 v326).OK) ∧
  (∀ k3_t12 : Fin (k3_t12_loop i v320 v326).trips, ∀ (k3_h6 : k3_cond6 i v320 v326 = 1#1), ∀ a, (k3_off46 i v320 v326 k3_t12) a + S1x16.size a ≤ S256x128.size a) ∧
  (∀ k3_t12 : Fin (k3_t12_loop i v320 v326).trips, ∀ (k3_h6 : k3_cond6 i v320 v326 = 1#1), ∀ a, (k3_off47 i v320 v326 k3_t12) a + S1x16.size a ≤ S256x128.size a) ∧
  (∀ k3_t12 : Fin (k3_t12_loop i v320 v326).trips, ∀ (k3_h6 : k3_cond6 i v320 v326 = 1#1), ∀ a, (k3_off48 i v320 v326 k3_t12) a + S1x16.size a ≤ S256x128.size a) ∧
  (∀ k3_t12 : Fin (k3_t12_loop i v320 v326).trips, ∀ (k3_h6 : k3_cond6 i v320 v326 = 1#1), ∀ a, (k3_off49 i v320 v326 k3_t12) a + S1x16.size a ≤ S256x128.size a) ∧
  (∀ (k3_h38 : k3_cond38 i v320 v326 = 1#1), (k3_t75_loop i v320 v326).OK) ∧
  (∀ k3_t75 : Fin (k3_t75_loop i v320 v326).trips, ∀ (k3_h38 : k3_cond38 i v320 v326 = 1#1), ∀ a, (k3_off299 i v320 v326 k3_t75) a + S1x16.size a ≤ S256x128.size a) ∧
  (∀ k3_t75 : Fin (k3_t75_loop i v320 v326).trips, ∀ (k3_h38 : k3_cond38 i v320 v326 = 1#1), ∀ a, (k3_off300 i v320 v326 k3_t75) a + S1x16.size a ≤ S256x128.size a) ∧
  (∀ k3_t75 : Fin (k3_t75_loop i v320 v326).trips, ∀ (k3_h38 : k3_cond38 i v320 v326 = 1#1), ∀ a, (k3_off301 i v320 v326 k3_t75) a + S1x16.size a ≤ S256x128.size a) ∧
  (∀ k3_t75 : Fin (k3_t75_loop i v320 v326).trips, ∀ (k3_h38 : k3_cond38 i v320 v326 = 1#1), ∀ a, (k3_off302 i v320 v326 k3_t75) a + S1x16.size a ≤ S256x128.size a) ∧
  (∀ (k3_h38 : k3_cond38 i v320 v326 = 1#1), (k3_t76_loop i v320 v326).OK) ∧
  (∀ k3_t76 : Fin (k3_t76_loop i v320 v326).trips, ∀ (k3_h38 : k3_cond38 i v320 v326 = 1#1), ∀ a, (k3_off303 i v320 v326 k3_t76) a + S1x16.size a ≤ S256x128.size a) ∧
  (∀ k3_t76 : Fin (k3_t76_loop i v320 v326).trips, ∀ (k3_h38 : k3_cond38 i v320 v326 = 1#1), ∀ a, (k3_off304 i v320 v326 k3_t76) a + S1x16.size a ≤ S256x128.size a) ∧
  (∀ k3_t76 : Fin (k3_t76_loop i v320 v326).trips, ∀ (k3_h38 : k3_cond38 i v320 v326 = 1#1), ∀ a, (k3_off305 i v320 v326 k3_t76) a + S1x16.size a ≤ S256x128.size a) ∧
  (∀ k3_t76 : Fin (k3_t76_loop i v320 v326).trips, ∀ (k3_h38 : k3_cond38 i v320 v326 = 1#1), ∀ a, (k3_off306 i v320 v326 k3_t76) a + S1x16.size a ≤ S256x128.size a) ∧
  (∀ (k3_h70 : k3_cond70 i v320 v326 = 1#1), (k3_t139_loop i v320 v326).OK) ∧
  (∀ k3_t139 : Fin (k3_t139_loop i v320 v326).trips, ∀ (k3_h70 : k3_cond70 i v320 v326 = 1#1), ∀ a, (k3_off555 i v320 v326 k3_t139) a + S1x16.size a ≤ S256x128.size a) ∧
  (∀ k3_t139 : Fin (k3_t139_loop i v320 v326).trips, ∀ (k3_h70 : k3_cond70 i v320 v326 = 1#1), ∀ a, (k3_off556 i v320 v326 k3_t139) a + S1x16.size a ≤ S256x128.size a) ∧
  (∀ k3_t139 : Fin (k3_t139_loop i v320 v326).trips, ∀ (k3_h70 : k3_cond70 i v320 v326 = 1#1), ∀ a, (k3_off557 i v320 v326 k3_t139) a + S1x16.size a ≤ S256x128.size a) ∧
  (∀ k3_t139 : Fin (k3_t139_loop i v320 v326).trips, ∀ (k3_h70 : k3_cond70 i v320 v326 = 1#1), ∀ a, (k3_off558 i v320 v326 k3_t139) a + S1x16.size a ≤ S256x128.size a) ∧
  (∀ (k3_h70 : k3_cond70 i v320 v326 = 1#1), (k3_t140_loop i v320 v326).OK) ∧
  (∀ k3_t140 : Fin (k3_t140_loop i v320 v326).trips, ∀ (k3_h70 : k3_cond70 i v320 v326 = 1#1), ∀ a, (k3_off559 i v320 v326 k3_t140) a + S1x16.size a ≤ S256x128.size a) ∧
  (∀ k3_t140 : Fin (k3_t140_loop i v320 v326).trips, ∀ (k3_h70 : k3_cond70 i v320 v326 = 1#1), ∀ a, (k3_off560 i v320 v326 k3_t140) a + S1x16.size a ≤ S256x128.size a) ∧
  (∀ k3_t140 : Fin (k3_t140_loop i v320 v326).trips, ∀ (k3_h70 : k3_cond70 i v320 v326 = 1#1), ∀ a, (k3_off561 i v320 v326 k3_t140) a + S1x16.size a ≤ S256x128.size a) ∧
  (∀ k3_t140 : Fin (k3_t140_loop i v320 v326).trips, ∀ (k3_h70 : k3_cond70 i v320 v326 = 1#1), ∀ a, (k3_off562 i v320 v326 k3_t140) a + S1x16.size a ≤ S256x128.size a) ∧
  (∀ (k3_h102 : k3_cond102 i v320 v326 = 1#1), (k3_t203_loop i v320 v326).OK) ∧
  (∀ k3_t203 : Fin (k3_t203_loop i v320 v326).trips, ∀ (k3_h102 : k3_cond102 i v320 v326 = 1#1), ∀ a, (k3_off811 i v320 v326 k3_t203) a + S1x16.size a ≤ S256x128.size a)
def k3_chk6_1 (i : grid3.Coords) (v320 : BitVec 32) (v326 : BitVec 32) : Prop :=
  (∀ k3_t203 : Fin (k3_t203_loop i v320 v326).trips, ∀ (k3_h102 : k3_cond102 i v320 v326 = 1#1), ∀ a, (k3_off812 i v320 v326 k3_t203) a + S1x16.size a ≤ S256x128.size a) ∧
  (∀ k3_t203 : Fin (k3_t203_loop i v320 v326).trips, ∀ (k3_h102 : k3_cond102 i v320 v326 = 1#1), ∀ a, (k3_off813 i v320 v326 k3_t203) a + S1x16.size a ≤ S256x128.size a) ∧
  (∀ k3_t203 : Fin (k3_t203_loop i v320 v326).trips, ∀ (k3_h102 : k3_cond102 i v320 v326 = 1#1), ∀ a, (k3_off814 i v320 v326 k3_t203) a + S1x16.size a ≤ S256x128.size a) ∧
  (∀ (k3_h102 : k3_cond102 i v320 v326 = 1#1), (k3_t204_loop i v320 v326).OK) ∧
  (∀ k3_t204 : Fin (k3_t204_loop i v320 v326).trips, ∀ (k3_h102 : k3_cond102 i v320 v326 = 1#1), ∀ a, (k3_off815 i v320 v326 k3_t204) a + S1x16.size a ≤ S256x128.size a) ∧
  (∀ k3_t204 : Fin (k3_t204_loop i v320 v326).trips, ∀ (k3_h102 : k3_cond102 i v320 v326 = 1#1), ∀ a, (k3_off816 i v320 v326 k3_t204) a + S1x16.size a ≤ S256x128.size a) ∧
  (∀ k3_t204 : Fin (k3_t204_loop i v320 v326).trips, ∀ (k3_h102 : k3_cond102 i v320 v326 = 1#1), ∀ a, (k3_off817 i v320 v326 k3_t204) a + S1x16.size a ≤ S256x128.size a) ∧
  (∀ k3_t204 : Fin (k3_t204_loop i v320 v326).trips, ∀ (k3_h102 : k3_cond102 i v320 v326 = 1#1), ∀ a, (k3_off818 i v320 v326 k3_t204) a + S1x16.size a ≤ S256x128.size a)
def k3_chk6 (i : grid3.Coords) (v320 : BitVec 32) (v326 : BitVec 32) : Prop :=
  k3_chk6_0 i v320 v326 ∧
  k3_chk6_1 i v320 v326
theorem k3_t11_ok : ∀ (i : grid3.Coords) (v320 : BitVec 32) (v326 : BitVec 32) (k3_hw6 : k3_chk6 i v320 v326), ∀ (k3_h6 : k3_cond6 i v320 v326 = 1#1), (k3_t11_loop i v320 v326).OK := fun i v320 v326 k3_hw6 k3_h6 => k3_hw6.1.1 k3_h6
theorem k3_off42_inb : ∀ (i : grid3.Coords) (v320 : BitVec 32) (v326 : BitVec 32) (k3_hw6 : k3_chk6 i v320 v326) (k3_t11 : Fin (k3_t11_loop i v320 v326).trips), ∀ (k3_h6 : k3_cond6 i v320 v326 = 1#1), ∀ a, (k3_off42 i v320 v326 k3_t11) a + S1x16.size a ≤ S256x128.size a := fun i v320 v326 k3_hw6 k3_t11 k3_h6 => k3_hw6.1.2.1 k3_t11 k3_h6
theorem k3_off43_inb : ∀ (i : grid3.Coords) (v320 : BitVec 32) (v326 : BitVec 32) (k3_hw6 : k3_chk6 i v320 v326) (k3_t11 : Fin (k3_t11_loop i v320 v326).trips), ∀ (k3_h6 : k3_cond6 i v320 v326 = 1#1), ∀ a, (k3_off43 i v320 v326 k3_t11) a + S1x16.size a ≤ S256x128.size a := fun i v320 v326 k3_hw6 k3_t11 k3_h6 => k3_hw6.1.2.2.1 k3_t11 k3_h6
theorem k3_off44_inb : ∀ (i : grid3.Coords) (v320 : BitVec 32) (v326 : BitVec 32) (k3_hw6 : k3_chk6 i v320 v326) (k3_t11 : Fin (k3_t11_loop i v320 v326).trips), ∀ (k3_h6 : k3_cond6 i v320 v326 = 1#1), ∀ a, (k3_off44 i v320 v326 k3_t11) a + S1x16.size a ≤ S256x128.size a := fun i v320 v326 k3_hw6 k3_t11 k3_h6 => k3_hw6.1.2.2.2.1 k3_t11 k3_h6
theorem k3_off45_inb : ∀ (i : grid3.Coords) (v320 : BitVec 32) (v326 : BitVec 32) (k3_hw6 : k3_chk6 i v320 v326) (k3_t11 : Fin (k3_t11_loop i v320 v326).trips), ∀ (k3_h6 : k3_cond6 i v320 v326 = 1#1), ∀ a, (k3_off45 i v320 v326 k3_t11) a + S1x16.size a ≤ S256x128.size a := fun i v320 v326 k3_hw6 k3_t11 k3_h6 => k3_hw6.1.2.2.2.2.1 k3_t11 k3_h6
theorem k3_t12_ok : ∀ (i : grid3.Coords) (v320 : BitVec 32) (v326 : BitVec 32) (k3_hw6 : k3_chk6 i v320 v326), ∀ (k3_h6 : k3_cond6 i v320 v326 = 1#1), (k3_t12_loop i v320 v326).OK := fun i v320 v326 k3_hw6 k3_h6 => k3_hw6.1.2.2.2.2.2.1 k3_h6
theorem k3_off46_inb : ∀ (i : grid3.Coords) (v320 : BitVec 32) (v326 : BitVec 32) (k3_hw6 : k3_chk6 i v320 v326) (k3_t12 : Fin (k3_t12_loop i v320 v326).trips), ∀ (k3_h6 : k3_cond6 i v320 v326 = 1#1), ∀ a, (k3_off46 i v320 v326 k3_t12) a + S1x16.size a ≤ S256x128.size a := fun i v320 v326 k3_hw6 k3_t12 k3_h6 => k3_hw6.1.2.2.2.2.2.2.1 k3_t12 k3_h6
theorem k3_off47_inb : ∀ (i : grid3.Coords) (v320 : BitVec 32) (v326 : BitVec 32) (k3_hw6 : k3_chk6 i v320 v326) (k3_t12 : Fin (k3_t12_loop i v320 v326).trips), ∀ (k3_h6 : k3_cond6 i v320 v326 = 1#1), ∀ a, (k3_off47 i v320 v326 k3_t12) a + S1x16.size a ≤ S256x128.size a := fun i v320 v326 k3_hw6 k3_t12 k3_h6 => k3_hw6.1.2.2.2.2.2.2.2.1 k3_t12 k3_h6
theorem k3_off48_inb : ∀ (i : grid3.Coords) (v320 : BitVec 32) (v326 : BitVec 32) (k3_hw6 : k3_chk6 i v320 v326) (k3_t12 : Fin (k3_t12_loop i v320 v326).trips), ∀ (k3_h6 : k3_cond6 i v320 v326 = 1#1), ∀ a, (k3_off48 i v320 v326 k3_t12) a + S1x16.size a ≤ S256x128.size a := fun i v320 v326 k3_hw6 k3_t12 k3_h6 => k3_hw6.1.2.2.2.2.2.2.2.2.1 k3_t12 k3_h6
theorem k3_off49_inb : ∀ (i : grid3.Coords) (v320 : BitVec 32) (v326 : BitVec 32) (k3_hw6 : k3_chk6 i v320 v326) (k3_t12 : Fin (k3_t12_loop i v320 v326).trips), ∀ (k3_h6 : k3_cond6 i v320 v326 = 1#1), ∀ a, (k3_off49 i v320 v326 k3_t12) a + S1x16.size a ≤ S256x128.size a := fun i v320 v326 k3_hw6 k3_t12 k3_h6 => k3_hw6.1.2.2.2.2.2.2.2.2.2.1 k3_t12 k3_h6
theorem k3_t75_ok : ∀ (i : grid3.Coords) (v320 : BitVec 32) (v326 : BitVec 32) (k3_hw6 : k3_chk6 i v320 v326), ∀ (k3_h38 : k3_cond38 i v320 v326 = 1#1), (k3_t75_loop i v320 v326).OK := fun i v320 v326 k3_hw6 k3_h38 => k3_hw6.1.2.2.2.2.2.2.2.2.2.2.1 k3_h38
theorem k3_off299_inb : ∀ (i : grid3.Coords) (v320 : BitVec 32) (v326 : BitVec 32) (k3_hw6 : k3_chk6 i v320 v326) (k3_t75 : Fin (k3_t75_loop i v320 v326).trips), ∀ (k3_h38 : k3_cond38 i v320 v326 = 1#1), ∀ a, (k3_off299 i v320 v326 k3_t75) a + S1x16.size a ≤ S256x128.size a := fun i v320 v326 k3_hw6 k3_t75 k3_h38 => k3_hw6.1.2.2.2.2.2.2.2.2.2.2.2.1 k3_t75 k3_h38
theorem k3_off300_inb : ∀ (i : grid3.Coords) (v320 : BitVec 32) (v326 : BitVec 32) (k3_hw6 : k3_chk6 i v320 v326) (k3_t75 : Fin (k3_t75_loop i v320 v326).trips), ∀ (k3_h38 : k3_cond38 i v320 v326 = 1#1), ∀ a, (k3_off300 i v320 v326 k3_t75) a + S1x16.size a ≤ S256x128.size a := fun i v320 v326 k3_hw6 k3_t75 k3_h38 => k3_hw6.1.2.2.2.2.2.2.2.2.2.2.2.2.1 k3_t75 k3_h38
theorem k3_off301_inb : ∀ (i : grid3.Coords) (v320 : BitVec 32) (v326 : BitVec 32) (k3_hw6 : k3_chk6 i v320 v326) (k3_t75 : Fin (k3_t75_loop i v320 v326).trips), ∀ (k3_h38 : k3_cond38 i v320 v326 = 1#1), ∀ a, (k3_off301 i v320 v326 k3_t75) a + S1x16.size a ≤ S256x128.size a := fun i v320 v326 k3_hw6 k3_t75 k3_h38 => k3_hw6.1.2.2.2.2.2.2.2.2.2.2.2.2.2.1 k3_t75 k3_h38
theorem k3_off302_inb : ∀ (i : grid3.Coords) (v320 : BitVec 32) (v326 : BitVec 32) (k3_hw6 : k3_chk6 i v320 v326) (k3_t75 : Fin (k3_t75_loop i v320 v326).trips), ∀ (k3_h38 : k3_cond38 i v320 v326 = 1#1), ∀ a, (k3_off302 i v320 v326 k3_t75) a + S1x16.size a ≤ S256x128.size a := fun i v320 v326 k3_hw6 k3_t75 k3_h38 => k3_hw6.1.2.2.2.2.2.2.2.2.2.2.2.2.2.2.1 k3_t75 k3_h38
theorem k3_t76_ok : ∀ (i : grid3.Coords) (v320 : BitVec 32) (v326 : BitVec 32) (k3_hw6 : k3_chk6 i v320 v326), ∀ (k3_h38 : k3_cond38 i v320 v326 = 1#1), (k3_t76_loop i v320 v326).OK := fun i v320 v326 k3_hw6 k3_h38 => k3_hw6.1.2.2.2.2.2.2.2.2.2.2.2.2.2.2.2.1 k3_h38
theorem k3_off303_inb : ∀ (i : grid3.Coords) (v320 : BitVec 32) (v326 : BitVec 32) (k3_hw6 : k3_chk6 i v320 v326) (k3_t76 : Fin (k3_t76_loop i v320 v326).trips), ∀ (k3_h38 : k3_cond38 i v320 v326 = 1#1), ∀ a, (k3_off303 i v320 v326 k3_t76) a + S1x16.size a ≤ S256x128.size a := fun i v320 v326 k3_hw6 k3_t76 k3_h38 => k3_hw6.1.2.2.2.2.2.2.2.2.2.2.2.2.2.2.2.2.1 k3_t76 k3_h38
theorem k3_off304_inb : ∀ (i : grid3.Coords) (v320 : BitVec 32) (v326 : BitVec 32) (k3_hw6 : k3_chk6 i v320 v326) (k3_t76 : Fin (k3_t76_loop i v320 v326).trips), ∀ (k3_h38 : k3_cond38 i v320 v326 = 1#1), ∀ a, (k3_off304 i v320 v326 k3_t76) a + S1x16.size a ≤ S256x128.size a := fun i v320 v326 k3_hw6 k3_t76 k3_h38 => k3_hw6.1.2.2.2.2.2.2.2.2.2.2.2.2.2.2.2.2.2.1 k3_t76 k3_h38
theorem k3_off305_inb : ∀ (i : grid3.Coords) (v320 : BitVec 32) (v326 : BitVec 32) (k3_hw6 : k3_chk6 i v320 v326) (k3_t76 : Fin (k3_t76_loop i v320 v326).trips), ∀ (k3_h38 : k3_cond38 i v320 v326 = 1#1), ∀ a, (k3_off305 i v320 v326 k3_t76) a + S1x16.size a ≤ S256x128.size a := fun i v320 v326 k3_hw6 k3_t76 k3_h38 => k3_hw6.1.2.2.2.2.2.2.2.2.2.2.2.2.2.2.2.2.2.2.1 k3_t76 k3_h38
theorem k3_off306_inb : ∀ (i : grid3.Coords) (v320 : BitVec 32) (v326 : BitVec 32) (k3_hw6 : k3_chk6 i v320 v326) (k3_t76 : Fin (k3_t76_loop i v320 v326).trips), ∀ (k3_h38 : k3_cond38 i v320 v326 = 1#1), ∀ a, (k3_off306 i v320 v326 k3_t76) a + S1x16.size a ≤ S256x128.size a := fun i v320 v326 k3_hw6 k3_t76 k3_h38 => k3_hw6.1.2.2.2.2.2.2.2.2.2.2.2.2.2.2.2.2.2.2.2.1 k3_t76 k3_h38
theorem k3_t139_ok : ∀ (i : grid3.Coords) (v320 : BitVec 32) (v326 : BitVec 32) (k3_hw6 : k3_chk6 i v320 v326), ∀ (k3_h70 : k3_cond70 i v320 v326 = 1#1), (k3_t139_loop i v320 v326).OK := fun i v320 v326 k3_hw6 k3_h70 => k3_hw6.1.2.2.2.2.2.2.2.2.2.2.2.2.2.2.2.2.2.2.2.2.1 k3_h70
theorem k3_off555_inb : ∀ (i : grid3.Coords) (v320 : BitVec 32) (v326 : BitVec 32) (k3_hw6 : k3_chk6 i v320 v326) (k3_t139 : Fin (k3_t139_loop i v320 v326).trips), ∀ (k3_h70 : k3_cond70 i v320 v326 = 1#1), ∀ a, (k3_off555 i v320 v326 k3_t139) a + S1x16.size a ≤ S256x128.size a := fun i v320 v326 k3_hw6 k3_t139 k3_h70 => k3_hw6.1.2.2.2.2.2.2.2.2.2.2.2.2.2.2.2.2.2.2.2.2.2.1 k3_t139 k3_h70
theorem k3_off556_inb : ∀ (i : grid3.Coords) (v320 : BitVec 32) (v326 : BitVec 32) (k3_hw6 : k3_chk6 i v320 v326) (k3_t139 : Fin (k3_t139_loop i v320 v326).trips), ∀ (k3_h70 : k3_cond70 i v320 v326 = 1#1), ∀ a, (k3_off556 i v320 v326 k3_t139) a + S1x16.size a ≤ S256x128.size a := fun i v320 v326 k3_hw6 k3_t139 k3_h70 => k3_hw6.1.2.2.2.2.2.2.2.2.2.2.2.2.2.2.2.2.2.2.2.2.2.2.1 k3_t139 k3_h70
theorem k3_off557_inb : ∀ (i : grid3.Coords) (v320 : BitVec 32) (v326 : BitVec 32) (k3_hw6 : k3_chk6 i v320 v326) (k3_t139 : Fin (k3_t139_loop i v320 v326).trips), ∀ (k3_h70 : k3_cond70 i v320 v326 = 1#1), ∀ a, (k3_off557 i v320 v326 k3_t139) a + S1x16.size a ≤ S256x128.size a := fun i v320 v326 k3_hw6 k3_t139 k3_h70 => k3_hw6.1.2.2.2.2.2.2.2.2.2.2.2.2.2.2.2.2.2.2.2.2.2.2.2.1 k3_t139 k3_h70
theorem k3_off558_inb : ∀ (i : grid3.Coords) (v320 : BitVec 32) (v326 : BitVec 32) (k3_hw6 : k3_chk6 i v320 v326) (k3_t139 : Fin (k3_t139_loop i v320 v326).trips), ∀ (k3_h70 : k3_cond70 i v320 v326 = 1#1), ∀ a, (k3_off558 i v320 v326 k3_t139) a + S1x16.size a ≤ S256x128.size a := fun i v320 v326 k3_hw6 k3_t139 k3_h70 => k3_hw6.1.2.2.2.2.2.2.2.2.2.2.2.2.2.2.2.2.2.2.2.2.2.2.2.2.1 k3_t139 k3_h70
theorem k3_t140_ok : ∀ (i : grid3.Coords) (v320 : BitVec 32) (v326 : BitVec 32) (k3_hw6 : k3_chk6 i v320 v326), ∀ (k3_h70 : k3_cond70 i v320 v326 = 1#1), (k3_t140_loop i v320 v326).OK := fun i v320 v326 k3_hw6 k3_h70 => k3_hw6.1.2.2.2.2.2.2.2.2.2.2.2.2.2.2.2.2.2.2.2.2.2.2.2.2.2.1 k3_h70
theorem k3_off559_inb : ∀ (i : grid3.Coords) (v320 : BitVec 32) (v326 : BitVec 32) (k3_hw6 : k3_chk6 i v320 v326) (k3_t140 : Fin (k3_t140_loop i v320 v326).trips), ∀ (k3_h70 : k3_cond70 i v320 v326 = 1#1), ∀ a, (k3_off559 i v320 v326 k3_t140) a + S1x16.size a ≤ S256x128.size a := fun i v320 v326 k3_hw6 k3_t140 k3_h70 => k3_hw6.1.2.2.2.2.2.2.2.2.2.2.2.2.2.2.2.2.2.2.2.2.2.2.2.2.2.2.1 k3_t140 k3_h70
theorem k3_off560_inb : ∀ (i : grid3.Coords) (v320 : BitVec 32) (v326 : BitVec 32) (k3_hw6 : k3_chk6 i v320 v326) (k3_t140 : Fin (k3_t140_loop i v320 v326).trips), ∀ (k3_h70 : k3_cond70 i v320 v326 = 1#1), ∀ a, (k3_off560 i v320 v326 k3_t140) a + S1x16.size a ≤ S256x128.size a := fun i v320 v326 k3_hw6 k3_t140 k3_h70 => k3_hw6.1.2.2.2.2.2.2.2.2.2.2.2.2.2.2.2.2.2.2.2.2.2.2.2.2.2.2.2.1 k3_t140 k3_h70
theorem k3_off561_inb : ∀ (i : grid3.Coords) (v320 : BitVec 32) (v326 : BitVec 32) (k3_hw6 : k3_chk6 i v320 v326) (k3_t140 : Fin (k3_t140_loop i v320 v326).trips), ∀ (k3_h70 : k3_cond70 i v320 v326 = 1#1), ∀ a, (k3_off561 i v320 v326 k3_t140) a + S1x16.size a ≤ S256x128.size a := fun i v320 v326 k3_hw6 k3_t140 k3_h70 => k3_hw6.1.2.2.2.2.2.2.2.2.2.2.2.2.2.2.2.2.2.2.2.2.2.2.2.2.2.2.2.2.1 k3_t140 k3_h70
theorem k3_off562_inb : ∀ (i : grid3.Coords) (v320 : BitVec 32) (v326 : BitVec 32) (k3_hw6 : k3_chk6 i v320 v326) (k3_t140 : Fin (k3_t140_loop i v320 v326).trips), ∀ (k3_h70 : k3_cond70 i v320 v326 = 1#1), ∀ a, (k3_off562 i v320 v326 k3_t140) a + S1x16.size a ≤ S256x128.size a := fun i v320 v326 k3_hw6 k3_t140 k3_h70 => k3_hw6.1.2.2.2.2.2.2.2.2.2.2.2.2.2.2.2.2.2.2.2.2.2.2.2.2.2.2.2.2.2.1 k3_t140 k3_h70
theorem k3_t203_ok : ∀ (i : grid3.Coords) (v320 : BitVec 32) (v326 : BitVec 32) (k3_hw6 : k3_chk6 i v320 v326), ∀ (k3_h102 : k3_cond102 i v320 v326 = 1#1), (k3_t203_loop i v320 v326).OK := fun i v320 v326 k3_hw6 k3_h102 => k3_hw6.1.2.2.2.2.2.2.2.2.2.2.2.2.2.2.2.2.2.2.2.2.2.2.2.2.2.2.2.2.2.2.1 k3_h102
theorem k3_off811_inb : ∀ (i : grid3.Coords) (v320 : BitVec 32) (v326 : BitVec 32) (k3_hw6 : k3_chk6 i v320 v326) (k3_t203 : Fin (k3_t203_loop i v320 v326).trips), ∀ (k3_h102 : k3_cond102 i v320 v326 = 1#1), ∀ a, (k3_off811 i v320 v326 k3_t203) a + S1x16.size a ≤ S256x128.size a := fun i v320 v326 k3_hw6 k3_t203 k3_h102 => k3_hw6.1.2.2.2.2.2.2.2.2.2.2.2.2.2.2.2.2.2.2.2.2.2.2.2.2.2.2.2.2.2.2.2 k3_t203 k3_h102
theorem k3_off812_inb : ∀ (i : grid3.Coords) (v320 : BitVec 32) (v326 : BitVec 32) (k3_hw6 : k3_chk6 i v320 v326) (k3_t203 : Fin (k3_t203_loop i v320 v326).trips), ∀ (k3_h102 : k3_cond102 i v320 v326 = 1#1), ∀ a, (k3_off812 i v320 v326 k3_t203) a + S1x16.size a ≤ S256x128.size a := fun i v320 v326 k3_hw6 k3_t203 k3_h102 => k3_hw6.2.1 k3_t203 k3_h102
theorem k3_off813_inb : ∀ (i : grid3.Coords) (v320 : BitVec 32) (v326 : BitVec 32) (k3_hw6 : k3_chk6 i v320 v326) (k3_t203 : Fin (k3_t203_loop i v320 v326).trips), ∀ (k3_h102 : k3_cond102 i v320 v326 = 1#1), ∀ a, (k3_off813 i v320 v326 k3_t203) a + S1x16.size a ≤ S256x128.size a := fun i v320 v326 k3_hw6 k3_t203 k3_h102 => k3_hw6.2.2.1 k3_t203 k3_h102
theorem k3_off814_inb : ∀ (i : grid3.Coords) (v320 : BitVec 32) (v326 : BitVec 32) (k3_hw6 : k3_chk6 i v320 v326) (k3_t203 : Fin (k3_t203_loop i v320 v326).trips), ∀ (k3_h102 : k3_cond102 i v320 v326 = 1#1), ∀ a, (k3_off814 i v320 v326 k3_t203) a + S1x16.size a ≤ S256x128.size a := fun i v320 v326 k3_hw6 k3_t203 k3_h102 => k3_hw6.2.2.2.1 k3_t203 k3_h102
theorem k3_t204_ok : ∀ (i : grid3.Coords) (v320 : BitVec 32) (v326 : BitVec 32) (k3_hw6 : k3_chk6 i v320 v326), ∀ (k3_h102 : k3_cond102 i v320 v326 = 1#1), (k3_t204_loop i v320 v326).OK := fun i v320 v326 k3_hw6 k3_h102 => k3_hw6.2.2.2.2.1 k3_h102
theorem k3_off815_inb : ∀ (i : grid3.Coords) (v320 : BitVec 32) (v326 : BitVec 32) (k3_hw6 : k3_chk6 i v320 v326) (k3_t204 : Fin (k3_t204_loop i v320 v326).trips), ∀ (k3_h102 : k3_cond102 i v320 v326 = 1#1), ∀ a, (k3_off815 i v320 v326 k3_t204) a + S1x16.size a ≤ S256x128.size a := fun i v320 v326 k3_hw6 k3_t204 k3_h102 => k3_hw6.2.2.2.2.2.1 k3_t204 k3_h102
theorem k3_off816_inb : ∀ (i : grid3.Coords) (v320 : BitVec 32) (v326 : BitVec 32) (k3_hw6 : k3_chk6 i v320 v326) (k3_t204 : Fin (k3_t204_loop i v320 v326).trips), ∀ (k3_h102 : k3_cond102 i v320 v326 = 1#1), ∀ a, (k3_off816 i v320 v326 k3_t204) a + S1x16.size a ≤ S256x128.size a := fun i v320 v326 k3_hw6 k3_t204 k3_h102 => k3_hw6.2.2.2.2.2.2.1 k3_t204 k3_h102
theorem k3_off817_inb : ∀ (i : grid3.Coords) (v320 : BitVec 32) (v326 : BitVec 32) (k3_hw6 : k3_chk6 i v320 v326) (k3_t204 : Fin (k3_t204_loop i v320 v326).trips), ∀ (k3_h102 : k3_cond102 i v320 v326 = 1#1), ∀ a, (k3_off817 i v320 v326 k3_t204) a + S1x16.size a ≤ S256x128.size a := fun i v320 v326 k3_hw6 k3_t204 k3_h102 => k3_hw6.2.2.2.2.2.2.2.1 k3_t204 k3_h102
theorem k3_off818_inb : ∀ (i : grid3.Coords) (v320 : BitVec 32) (v326 : BitVec 32) (k3_hw6 : k3_chk6 i v320 v326) (k3_t204 : Fin (k3_t204_loop i v320 v326).trips), ∀ (k3_h102 : k3_cond102 i v320 v326 = 1#1), ∀ a, (k3_off818 i v320 v326 k3_t204) a + S1x16.size a ≤ S256x128.size a := fun i v320 v326 k3_hw6 k3_t204 k3_h102 => k3_hw6.2.2.2.2.2.2.2.2 k3_t204 k3_h102

@[reducible] def k3_t205_loop (i : grid3.Coords) (v332 : BitVec 32) (v337 : BitVec 32) : Scf.Loop 32 :=
  let c256_i32_1007 : BitVec 32 := 256#32
  let c0_i32_1006 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let c256_i32_1010 : BitVec 32 := 256#32
  let c0_i32_1009 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c768_i32_1008 : BitVec 32 := 768#32
  let v1562 : BitVec 32 := Scalar.subi v340 c768_i32_1008
  let v1563 : BitVec 32 := Scalar.maxsi c0_i32_1009 v1562
  let v1564 : BitVec 32 := Scalar.minsi c256_i32_1010 v1563
  let v1805 : BitVec 32 := Scalar.subi v1564 v1561
  let c1_i32_1195 : BitVec 32 := 1#32
  let v1807 : BitVec 32 := Scalar.divsi v1805 c1_i32_1195
  let v1808 : BitVec 32 := Scalar.muli v1807 c1_i32_1195
  let v1809 : BitVec 32 := Scalar.addi v1561 v1808
  let c1_i32_1196 : BitVec 32 := 1#32
  ⟨v1561, v1809, c1_i32_1196⟩
def k3_cond103 (i : grid3.Coords) (v332 : BitVec 32) (v337 : BitVec 32) : BitVec 1 :=
  let c256_i32_1010 : BitVec 32 := 256#32
  let c0_i32_1009 : BitVec 32 := 0#32
  let c1024_i32_143 : BitVec 32 := 1024#32
  let c0_i32_142 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v338 : BitVec 32 := Scalar.subi v337 v3
  let v339 : BitVec 32 := Scalar.maxsi c0_i32_142 v338
  let v340 : BitVec 32 := Scalar.minsi c1024_i32_143 v339
  let c768_i32_1008 : BitVec 32 := 768#32
  let v1562 : BitVec 32 := Scalar.subi v340 c768_i32_1008
  let v1563 : BitVec 32 := Scalar.maxsi c0_i32_1009 v1562
  let v1564 : BitVec 32 := Scalar.minsi c256_i32_1010 v1563
  let c256_i32_1007 : BitVec 32 := 256#32
  let c0_i32_1006 : BitVec 32 := 0#32
  let c1024_i32_141 : BitVec 32 := 1024#32
  let c0_i32_140 : BitVec 32 := 0#32
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let v1565 : BitVec 1 := Scalar.cmpi .sgt v1564 v1561
  let v1566 : BitVec 32 := Scalar.extui v1565
  let c0_i32_1011 : BitVec 32 := 0#32
  let v1567 : BitVec 1 := Scalar.cmpi .ne v1566 c0_i32_1011
  v1567

def k3_off819 (i : grid3.Coords) (v332 : BitVec 32) (v337 : BitVec 32) (k3_t205 : Fin (k3_t205_loop i v332 v337).trips) : Fin 2 → Nat :=
  let c256_i32_1007 : BitVec 32 := 256#32
  let c0_i32_1006 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let c1_i32_1196 : BitVec 32 := 1#32
  let arg13 : BitVec 32 := Scf.iv v1561 c1_i32_1196 k3_t205
  let v1828 : Index := Scalar.indexCast arg13
  let c0_1206 : Index := 0#32
  ![v1828.toNat, 0]
def k3_off820 (i : grid3.Coords) (v332 : BitVec 32) (v337 : BitVec 32) (k3_t205 : Fin (k3_t205_loop i v332 v337).trips) : Fin 2 → Nat :=
  let c256_i32_1007 : BitVec 32 := 256#32
  let c0_i32_1006 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let c1_i32_1196 : BitVec 32 := 1#32
  let arg13 : BitVec 32 := Scf.iv v1561 c1_i32_1196 k3_t205
  let v1832 : Index := Scalar.indexCast arg13
  let c16_1207 : Index := 16#32
  ![v1832.toNat, 16]
def k3_off821 (i : grid3.Coords) (v332 : BitVec 32) (v337 : BitVec 32) (k3_t205 : Fin (k3_t205_loop i v332 v337).trips) : Fin 2 → Nat :=
  let c256_i32_1007 : BitVec 32 := 256#32
  let c0_i32_1006 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let c1_i32_1196 : BitVec 32 := 1#32
  let arg13 : BitVec 32 := Scf.iv v1561 c1_i32_1196 k3_t205
  let v1836 : Index := Scalar.indexCast arg13
  let c32_1208 : Index := 32#32
  ![v1836.toNat, 32]
def k3_off822 (i : grid3.Coords) (v332 : BitVec 32) (v337 : BitVec 32) (k3_t205 : Fin (k3_t205_loop i v332 v337).trips) : Fin 2 → Nat :=
  let c256_i32_1007 : BitVec 32 := 256#32
  let c0_i32_1006 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let c1_i32_1196 : BitVec 32 := 1#32
  let arg13 : BitVec 32 := Scf.iv v1561 c1_i32_1196 k3_t205
  let v1840 : Index := Scalar.indexCast arg13
  let c48_1209 : Index := 48#32
  ![v1840.toNat, 48]
@[reducible] def k3_t206_loop (i : grid3.Coords) (v332 : BitVec 32) (v337 : BitVec 32) : Scf.Loop 32 :=
  let c256_i32_1007 : BitVec 32 := 256#32
  let c0_i32_1006 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let c256_i32_1010 : BitVec 32 := 256#32
  let c0_i32_1009 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c768_i32_1008 : BitVec 32 := 768#32
  let v1562 : BitVec 32 := Scalar.subi v340 c768_i32_1008
  let v1563 : BitVec 32 := Scalar.maxsi c0_i32_1009 v1562
  let v1564 : BitVec 32 := Scalar.minsi c256_i32_1010 v1563
  let v1805 : BitVec 32 := Scalar.subi v1564 v1561
  let c1_i32_1195 : BitVec 32 := 1#32
  let v1807 : BitVec 32 := Scalar.divsi v1805 c1_i32_1195
  let v1808 : BitVec 32 := Scalar.muli v1807 c1_i32_1195
  let v1809 : BitVec 32 := Scalar.addi v1561 v1808
  let v1806 : BitVec 32 := Scalar.addi v1561 v1805
  let c1_i32_1197 : BitVec 32 := 1#32
  ⟨v1809, v1806, c1_i32_1197⟩
def k3_off823 (i : grid3.Coords) (v332 : BitVec 32) (v337 : BitVec 32) (k3_t206 : Fin (k3_t206_loop i v332 v337).trips) : Fin 2 → Nat :=
  let c256_i32_1007 : BitVec 32 := 256#32
  let c0_i32_1006 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let c256_i32_1010 : BitVec 32 := 256#32
  let c0_i32_1009 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c768_i32_1008 : BitVec 32 := 768#32
  let v1562 : BitVec 32 := Scalar.subi v340 c768_i32_1008
  let v1563 : BitVec 32 := Scalar.maxsi c0_i32_1009 v1562
  let v1564 : BitVec 32 := Scalar.minsi c256_i32_1010 v1563
  let v1805 : BitVec 32 := Scalar.subi v1564 v1561
  let c1_i32_1195 : BitVec 32 := 1#32
  let v1807 : BitVec 32 := Scalar.divsi v1805 c1_i32_1195
  let v1808 : BitVec 32 := Scalar.muli v1807 c1_i32_1195
  let v1809 : BitVec 32 := Scalar.addi v1561 v1808
  let c1_i32_1197 : BitVec 32 := 1#32
  let arg13 : BitVec 32 := Scf.iv v1809 c1_i32_1197 k3_t206
  let v1828 : Index := Scalar.indexCast arg13
  let c0_1206 : Index := 0#32
  ![v1828.toNat, 0]
def k3_off824 (i : grid3.Coords) (v332 : BitVec 32) (v337 : BitVec 32) (k3_t206 : Fin (k3_t206_loop i v332 v337).trips) : Fin 2 → Nat :=
  let c256_i32_1007 : BitVec 32 := 256#32
  let c0_i32_1006 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let c256_i32_1010 : BitVec 32 := 256#32
  let c0_i32_1009 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c768_i32_1008 : BitVec 32 := 768#32
  let v1562 : BitVec 32 := Scalar.subi v340 c768_i32_1008
  let v1563 : BitVec 32 := Scalar.maxsi c0_i32_1009 v1562
  let v1564 : BitVec 32 := Scalar.minsi c256_i32_1010 v1563
  let v1805 : BitVec 32 := Scalar.subi v1564 v1561
  let c1_i32_1195 : BitVec 32 := 1#32
  let v1807 : BitVec 32 := Scalar.divsi v1805 c1_i32_1195
  let v1808 : BitVec 32 := Scalar.muli v1807 c1_i32_1195
  let v1809 : BitVec 32 := Scalar.addi v1561 v1808
  let c1_i32_1197 : BitVec 32 := 1#32
  let arg13 : BitVec 32 := Scf.iv v1809 c1_i32_1197 k3_t206
  let v1832 : Index := Scalar.indexCast arg13
  let c16_1207 : Index := 16#32
  ![v1832.toNat, 16]
def k3_off825 (i : grid3.Coords) (v332 : BitVec 32) (v337 : BitVec 32) (k3_t206 : Fin (k3_t206_loop i v332 v337).trips) : Fin 2 → Nat :=
  let c256_i32_1007 : BitVec 32 := 256#32
  let c0_i32_1006 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let c256_i32_1010 : BitVec 32 := 256#32
  let c0_i32_1009 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c768_i32_1008 : BitVec 32 := 768#32
  let v1562 : BitVec 32 := Scalar.subi v340 c768_i32_1008
  let v1563 : BitVec 32 := Scalar.maxsi c0_i32_1009 v1562
  let v1564 : BitVec 32 := Scalar.minsi c256_i32_1010 v1563
  let v1805 : BitVec 32 := Scalar.subi v1564 v1561
  let c1_i32_1195 : BitVec 32 := 1#32
  let v1807 : BitVec 32 := Scalar.divsi v1805 c1_i32_1195
  let v1808 : BitVec 32 := Scalar.muli v1807 c1_i32_1195
  let v1809 : BitVec 32 := Scalar.addi v1561 v1808
  let c1_i32_1197 : BitVec 32 := 1#32
  let arg13 : BitVec 32 := Scf.iv v1809 c1_i32_1197 k3_t206
  let v1836 : Index := Scalar.indexCast arg13
  let c32_1208 : Index := 32#32
  ![v1836.toNat, 32]
def k3_off826 (i : grid3.Coords) (v332 : BitVec 32) (v337 : BitVec 32) (k3_t206 : Fin (k3_t206_loop i v332 v337).trips) : Fin 2 → Nat :=
  let c256_i32_1007 : BitVec 32 := 256#32
  let c0_i32_1006 : BitVec 32 := 0#32
  let c1024_i32_141 : BitVec 32 := 1024#32
  let c0_i32_140 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v333 : BitVec 32 := Scalar.subi v332 v3
  let v334 : BitVec 32 := Scalar.maxsi c0_i32_140 v333
  let v335 : BitVec 32 := Scalar.minsi c1024_i32_141 v334
  let c768_i32_1005 : BitVec 32 := 768#32
  let v1559 : BitVec 32 := Scalar.subi v335 c768_i32_1005
  let v1560 : BitVec 32 := Scalar.maxsi c0_i32_1006 v1559
  let v1561 : BitVec 32 := Scalar.minsi c256_i32_1007 v1560
  let c256_i32_1010 : BitVec 32 := 256#32
  let c0_i32_1009 : BitVec 32 := 0#32
  let c1024_i32_143 : BitVec 32 := 1024#32
  let c0_i32_142 : BitVec 32 := 0#32
  let v338 : BitVec 32 := Scalar.subi v337 v3
  let v339 : BitVec 32 := Scalar.maxsi c0_i32_142 v338
  let v340 : BitVec 32 := Scalar.minsi c1024_i32_143 v339
  let c768_i32_1008 : BitVec 32 := 768#32
  let v1562 : BitVec 32 := Scalar.subi v340 c768_i32_1008
  let v1563 : BitVec 32 := Scalar.maxsi c0_i32_1009 v1562
  let v1564 : BitVec 32 := Scalar.minsi c256_i32_1010 v1563
  let v1805 : BitVec 32 := Scalar.subi v1564 v1561
  let c1_i32_1195 : BitVec 32 := 1#32
  let v1807 : BitVec 32 := Scalar.divsi v1805 c1_i32_1195
  let v1808 : BitVec 32 := Scalar.muli v1807 c1_i32_1195
  let v1809 : BitVec 32 := Scalar.addi v1561 v1808
  let c1_i32_1197 : BitVec 32 := 1#32
  let arg13 : BitVec 32 := Scf.iv v1809 c1_i32_1197 k3_t206
  let v1840 : Index := Scalar.indexCast arg13
  let c48_1209 : Index := 48#32
  ![v1840.toNat, 48]

def k3_chk7_0 (i : grid3.Coords) (v332 : BitVec 32) (v337 : BitVec 32) : Prop :=
  (∀ (k3_h7 : k3_cond7 i v332 v337 = 1#1), (k3_t13_loop i v332 v337).OK) ∧
  (∀ k3_t13 : Fin (k3_t13_loop i v332 v337).trips, ∀ (k3_h7 : k3_cond7 i v332 v337 = 1#1), ∀ a, (k3_off50 i v332 v337 k3_t13) a + S1x16.size a ≤ S256x128.size a) ∧
  (∀ k3_t13 : Fin (k3_t13_loop i v332 v337).trips, ∀ (k3_h7 : k3_cond7 i v332 v337 = 1#1), ∀ a, (k3_off51 i v332 v337 k3_t13) a + S1x16.size a ≤ S256x128.size a) ∧
  (∀ k3_t13 : Fin (k3_t13_loop i v332 v337).trips, ∀ (k3_h7 : k3_cond7 i v332 v337 = 1#1), ∀ a, (k3_off52 i v332 v337 k3_t13) a + S1x16.size a ≤ S256x128.size a) ∧
  (∀ k3_t13 : Fin (k3_t13_loop i v332 v337).trips, ∀ (k3_h7 : k3_cond7 i v332 v337 = 1#1), ∀ a, (k3_off53 i v332 v337 k3_t13) a + S1x16.size a ≤ S256x128.size a) ∧
  (∀ (k3_h7 : k3_cond7 i v332 v337 = 1#1), (k3_t14_loop i v332 v337).OK) ∧
  (∀ k3_t14 : Fin (k3_t14_loop i v332 v337).trips, ∀ (k3_h7 : k3_cond7 i v332 v337 = 1#1), ∀ a, (k3_off54 i v332 v337 k3_t14) a + S1x16.size a ≤ S256x128.size a) ∧
  (∀ k3_t14 : Fin (k3_t14_loop i v332 v337).trips, ∀ (k3_h7 : k3_cond7 i v332 v337 = 1#1), ∀ a, (k3_off55 i v332 v337 k3_t14) a + S1x16.size a ≤ S256x128.size a) ∧
  (∀ k3_t14 : Fin (k3_t14_loop i v332 v337).trips, ∀ (k3_h7 : k3_cond7 i v332 v337 = 1#1), ∀ a, (k3_off56 i v332 v337 k3_t14) a + S1x16.size a ≤ S256x128.size a) ∧
  (∀ k3_t14 : Fin (k3_t14_loop i v332 v337).trips, ∀ (k3_h7 : k3_cond7 i v332 v337 = 1#1), ∀ a, (k3_off57 i v332 v337 k3_t14) a + S1x16.size a ≤ S256x128.size a) ∧
  (∀ (k3_h39 : k3_cond39 i v332 v337 = 1#1), (k3_t77_loop i v332 v337).OK) ∧
  (∀ k3_t77 : Fin (k3_t77_loop i v332 v337).trips, ∀ (k3_h39 : k3_cond39 i v332 v337 = 1#1), ∀ a, (k3_off307 i v332 v337 k3_t77) a + S1x16.size a ≤ S256x128.size a) ∧
  (∀ k3_t77 : Fin (k3_t77_loop i v332 v337).trips, ∀ (k3_h39 : k3_cond39 i v332 v337 = 1#1), ∀ a, (k3_off308 i v332 v337 k3_t77) a + S1x16.size a ≤ S256x128.size a) ∧
  (∀ k3_t77 : Fin (k3_t77_loop i v332 v337).trips, ∀ (k3_h39 : k3_cond39 i v332 v337 = 1#1), ∀ a, (k3_off309 i v332 v337 k3_t77) a + S1x16.size a ≤ S256x128.size a) ∧
  (∀ k3_t77 : Fin (k3_t77_loop i v332 v337).trips, ∀ (k3_h39 : k3_cond39 i v332 v337 = 1#1), ∀ a, (k3_off310 i v332 v337 k3_t77) a + S1x16.size a ≤ S256x128.size a) ∧
  (∀ (k3_h39 : k3_cond39 i v332 v337 = 1#1), (k3_t78_loop i v332 v337).OK) ∧
  (∀ k3_t78 : Fin (k3_t78_loop i v332 v337).trips, ∀ (k3_h39 : k3_cond39 i v332 v337 = 1#1), ∀ a, (k3_off311 i v332 v337 k3_t78) a + S1x16.size a ≤ S256x128.size a) ∧
  (∀ k3_t78 : Fin (k3_t78_loop i v332 v337).trips, ∀ (k3_h39 : k3_cond39 i v332 v337 = 1#1), ∀ a, (k3_off312 i v332 v337 k3_t78) a + S1x16.size a ≤ S256x128.size a) ∧
  (∀ k3_t78 : Fin (k3_t78_loop i v332 v337).trips, ∀ (k3_h39 : k3_cond39 i v332 v337 = 1#1), ∀ a, (k3_off313 i v332 v337 k3_t78) a + S1x16.size a ≤ S256x128.size a) ∧
  (∀ k3_t78 : Fin (k3_t78_loop i v332 v337).trips, ∀ (k3_h39 : k3_cond39 i v332 v337 = 1#1), ∀ a, (k3_off314 i v332 v337 k3_t78) a + S1x16.size a ≤ S256x128.size a) ∧
  (∀ (k3_h71 : k3_cond71 i v332 v337 = 1#1), (k3_t141_loop i v332 v337).OK) ∧
  (∀ k3_t141 : Fin (k3_t141_loop i v332 v337).trips, ∀ (k3_h71 : k3_cond71 i v332 v337 = 1#1), ∀ a, (k3_off563 i v332 v337 k3_t141) a + S1x16.size a ≤ S256x128.size a) ∧
  (∀ k3_t141 : Fin (k3_t141_loop i v332 v337).trips, ∀ (k3_h71 : k3_cond71 i v332 v337 = 1#1), ∀ a, (k3_off564 i v332 v337 k3_t141) a + S1x16.size a ≤ S256x128.size a) ∧
  (∀ k3_t141 : Fin (k3_t141_loop i v332 v337).trips, ∀ (k3_h71 : k3_cond71 i v332 v337 = 1#1), ∀ a, (k3_off565 i v332 v337 k3_t141) a + S1x16.size a ≤ S256x128.size a) ∧
  (∀ k3_t141 : Fin (k3_t141_loop i v332 v337).trips, ∀ (k3_h71 : k3_cond71 i v332 v337 = 1#1), ∀ a, (k3_off566 i v332 v337 k3_t141) a + S1x16.size a ≤ S256x128.size a) ∧
  (∀ (k3_h71 : k3_cond71 i v332 v337 = 1#1), (k3_t142_loop i v332 v337).OK) ∧
  (∀ k3_t142 : Fin (k3_t142_loop i v332 v337).trips, ∀ (k3_h71 : k3_cond71 i v332 v337 = 1#1), ∀ a, (k3_off567 i v332 v337 k3_t142) a + S1x16.size a ≤ S256x128.size a) ∧
  (∀ k3_t142 : Fin (k3_t142_loop i v332 v337).trips, ∀ (k3_h71 : k3_cond71 i v332 v337 = 1#1), ∀ a, (k3_off568 i v332 v337 k3_t142) a + S1x16.size a ≤ S256x128.size a) ∧
  (∀ k3_t142 : Fin (k3_t142_loop i v332 v337).trips, ∀ (k3_h71 : k3_cond71 i v332 v337 = 1#1), ∀ a, (k3_off569 i v332 v337 k3_t142) a + S1x16.size a ≤ S256x128.size a) ∧
  (∀ k3_t142 : Fin (k3_t142_loop i v332 v337).trips, ∀ (k3_h71 : k3_cond71 i v332 v337 = 1#1), ∀ a, (k3_off570 i v332 v337 k3_t142) a + S1x16.size a ≤ S256x128.size a) ∧
  (∀ (k3_h103 : k3_cond103 i v332 v337 = 1#1), (k3_t205_loop i v332 v337).OK) ∧
  (∀ k3_t205 : Fin (k3_t205_loop i v332 v337).trips, ∀ (k3_h103 : k3_cond103 i v332 v337 = 1#1), ∀ a, (k3_off819 i v332 v337 k3_t205) a + S1x16.size a ≤ S256x128.size a)
def k3_chk7_1 (i : grid3.Coords) (v332 : BitVec 32) (v337 : BitVec 32) : Prop :=
  (∀ k3_t205 : Fin (k3_t205_loop i v332 v337).trips, ∀ (k3_h103 : k3_cond103 i v332 v337 = 1#1), ∀ a, (k3_off820 i v332 v337 k3_t205) a + S1x16.size a ≤ S256x128.size a) ∧
  (∀ k3_t205 : Fin (k3_t205_loop i v332 v337).trips, ∀ (k3_h103 : k3_cond103 i v332 v337 = 1#1), ∀ a, (k3_off821 i v332 v337 k3_t205) a + S1x16.size a ≤ S256x128.size a) ∧
  (∀ k3_t205 : Fin (k3_t205_loop i v332 v337).trips, ∀ (k3_h103 : k3_cond103 i v332 v337 = 1#1), ∀ a, (k3_off822 i v332 v337 k3_t205) a + S1x16.size a ≤ S256x128.size a) ∧
  (∀ (k3_h103 : k3_cond103 i v332 v337 = 1#1), (k3_t206_loop i v332 v337).OK) ∧
  (∀ k3_t206 : Fin (k3_t206_loop i v332 v337).trips, ∀ (k3_h103 : k3_cond103 i v332 v337 = 1#1), ∀ a, (k3_off823 i v332 v337 k3_t206) a + S1x16.size a ≤ S256x128.size a) ∧
  (∀ k3_t206 : Fin (k3_t206_loop i v332 v337).trips, ∀ (k3_h103 : k3_cond103 i v332 v337 = 1#1), ∀ a, (k3_off824 i v332 v337 k3_t206) a + S1x16.size a ≤ S256x128.size a) ∧
  (∀ k3_t206 : Fin (k3_t206_loop i v332 v337).trips, ∀ (k3_h103 : k3_cond103 i v332 v337 = 1#1), ∀ a, (k3_off825 i v332 v337 k3_t206) a + S1x16.size a ≤ S256x128.size a) ∧
  (∀ k3_t206 : Fin (k3_t206_loop i v332 v337).trips, ∀ (k3_h103 : k3_cond103 i v332 v337 = 1#1), ∀ a, (k3_off826 i v332 v337 k3_t206) a + S1x16.size a ≤ S256x128.size a)
def k3_chk7 (i : grid3.Coords) (v332 : BitVec 32) (v337 : BitVec 32) : Prop :=
  k3_chk7_0 i v332 v337 ∧
  k3_chk7_1 i v332 v337
theorem k3_t13_ok : ∀ (i : grid3.Coords) (v332 : BitVec 32) (v337 : BitVec 32) (k3_hw7 : k3_chk7 i v332 v337), ∀ (k3_h7 : k3_cond7 i v332 v337 = 1#1), (k3_t13_loop i v332 v337).OK := fun i v332 v337 k3_hw7 k3_h7 => k3_hw7.1.1 k3_h7
theorem k3_off50_inb : ∀ (i : grid3.Coords) (v332 : BitVec 32) (v337 : BitVec 32) (k3_hw7 : k3_chk7 i v332 v337) (k3_t13 : Fin (k3_t13_loop i v332 v337).trips), ∀ (k3_h7 : k3_cond7 i v332 v337 = 1#1), ∀ a, (k3_off50 i v332 v337 k3_t13) a + S1x16.size a ≤ S256x128.size a := fun i v332 v337 k3_hw7 k3_t13 k3_h7 => k3_hw7.1.2.1 k3_t13 k3_h7
theorem k3_off51_inb : ∀ (i : grid3.Coords) (v332 : BitVec 32) (v337 : BitVec 32) (k3_hw7 : k3_chk7 i v332 v337) (k3_t13 : Fin (k3_t13_loop i v332 v337).trips), ∀ (k3_h7 : k3_cond7 i v332 v337 = 1#1), ∀ a, (k3_off51 i v332 v337 k3_t13) a + S1x16.size a ≤ S256x128.size a := fun i v332 v337 k3_hw7 k3_t13 k3_h7 => k3_hw7.1.2.2.1 k3_t13 k3_h7
theorem k3_off52_inb : ∀ (i : grid3.Coords) (v332 : BitVec 32) (v337 : BitVec 32) (k3_hw7 : k3_chk7 i v332 v337) (k3_t13 : Fin (k3_t13_loop i v332 v337).trips), ∀ (k3_h7 : k3_cond7 i v332 v337 = 1#1), ∀ a, (k3_off52 i v332 v337 k3_t13) a + S1x16.size a ≤ S256x128.size a := fun i v332 v337 k3_hw7 k3_t13 k3_h7 => k3_hw7.1.2.2.2.1 k3_t13 k3_h7
theorem k3_off53_inb : ∀ (i : grid3.Coords) (v332 : BitVec 32) (v337 : BitVec 32) (k3_hw7 : k3_chk7 i v332 v337) (k3_t13 : Fin (k3_t13_loop i v332 v337).trips), ∀ (k3_h7 : k3_cond7 i v332 v337 = 1#1), ∀ a, (k3_off53 i v332 v337 k3_t13) a + S1x16.size a ≤ S256x128.size a := fun i v332 v337 k3_hw7 k3_t13 k3_h7 => k3_hw7.1.2.2.2.2.1 k3_t13 k3_h7
theorem k3_t14_ok : ∀ (i : grid3.Coords) (v332 : BitVec 32) (v337 : BitVec 32) (k3_hw7 : k3_chk7 i v332 v337), ∀ (k3_h7 : k3_cond7 i v332 v337 = 1#1), (k3_t14_loop i v332 v337).OK := fun i v332 v337 k3_hw7 k3_h7 => k3_hw7.1.2.2.2.2.2.1 k3_h7
theorem k3_off54_inb : ∀ (i : grid3.Coords) (v332 : BitVec 32) (v337 : BitVec 32) (k3_hw7 : k3_chk7 i v332 v337) (k3_t14 : Fin (k3_t14_loop i v332 v337).trips), ∀ (k3_h7 : k3_cond7 i v332 v337 = 1#1), ∀ a, (k3_off54 i v332 v337 k3_t14) a + S1x16.size a ≤ S256x128.size a := fun i v332 v337 k3_hw7 k3_t14 k3_h7 => k3_hw7.1.2.2.2.2.2.2.1 k3_t14 k3_h7
theorem k3_off55_inb : ∀ (i : grid3.Coords) (v332 : BitVec 32) (v337 : BitVec 32) (k3_hw7 : k3_chk7 i v332 v337) (k3_t14 : Fin (k3_t14_loop i v332 v337).trips), ∀ (k3_h7 : k3_cond7 i v332 v337 = 1#1), ∀ a, (k3_off55 i v332 v337 k3_t14) a + S1x16.size a ≤ S256x128.size a := fun i v332 v337 k3_hw7 k3_t14 k3_h7 => k3_hw7.1.2.2.2.2.2.2.2.1 k3_t14 k3_h7
theorem k3_off56_inb : ∀ (i : grid3.Coords) (v332 : BitVec 32) (v337 : BitVec 32) (k3_hw7 : k3_chk7 i v332 v337) (k3_t14 : Fin (k3_t14_loop i v332 v337).trips), ∀ (k3_h7 : k3_cond7 i v332 v337 = 1#1), ∀ a, (k3_off56 i v332 v337 k3_t14) a + S1x16.size a ≤ S256x128.size a := fun i v332 v337 k3_hw7 k3_t14 k3_h7 => k3_hw7.1.2.2.2.2.2.2.2.2.1 k3_t14 k3_h7
theorem k3_off57_inb : ∀ (i : grid3.Coords) (v332 : BitVec 32) (v337 : BitVec 32) (k3_hw7 : k3_chk7 i v332 v337) (k3_t14 : Fin (k3_t14_loop i v332 v337).trips), ∀ (k3_h7 : k3_cond7 i v332 v337 = 1#1), ∀ a, (k3_off57 i v332 v337 k3_t14) a + S1x16.size a ≤ S256x128.size a := fun i v332 v337 k3_hw7 k3_t14 k3_h7 => k3_hw7.1.2.2.2.2.2.2.2.2.2.1 k3_t14 k3_h7
theorem k3_t77_ok : ∀ (i : grid3.Coords) (v332 : BitVec 32) (v337 : BitVec 32) (k3_hw7 : k3_chk7 i v332 v337), ∀ (k3_h39 : k3_cond39 i v332 v337 = 1#1), (k3_t77_loop i v332 v337).OK := fun i v332 v337 k3_hw7 k3_h39 => k3_hw7.1.2.2.2.2.2.2.2.2.2.2.1 k3_h39
theorem k3_off307_inb : ∀ (i : grid3.Coords) (v332 : BitVec 32) (v337 : BitVec 32) (k3_hw7 : k3_chk7 i v332 v337) (k3_t77 : Fin (k3_t77_loop i v332 v337).trips), ∀ (k3_h39 : k3_cond39 i v332 v337 = 1#1), ∀ a, (k3_off307 i v332 v337 k3_t77) a + S1x16.size a ≤ S256x128.size a := fun i v332 v337 k3_hw7 k3_t77 k3_h39 => k3_hw7.1.2.2.2.2.2.2.2.2.2.2.2.1 k3_t77 k3_h39
theorem k3_off308_inb : ∀ (i : grid3.Coords) (v332 : BitVec 32) (v337 : BitVec 32) (k3_hw7 : k3_chk7 i v332 v337) (k3_t77 : Fin (k3_t77_loop i v332 v337).trips), ∀ (k3_h39 : k3_cond39 i v332 v337 = 1#1), ∀ a, (k3_off308 i v332 v337 k3_t77) a + S1x16.size a ≤ S256x128.size a := fun i v332 v337 k3_hw7 k3_t77 k3_h39 => k3_hw7.1.2.2.2.2.2.2.2.2.2.2.2.2.1 k3_t77 k3_h39
theorem k3_off309_inb : ∀ (i : grid3.Coords) (v332 : BitVec 32) (v337 : BitVec 32) (k3_hw7 : k3_chk7 i v332 v337) (k3_t77 : Fin (k3_t77_loop i v332 v337).trips), ∀ (k3_h39 : k3_cond39 i v332 v337 = 1#1), ∀ a, (k3_off309 i v332 v337 k3_t77) a + S1x16.size a ≤ S256x128.size a := fun i v332 v337 k3_hw7 k3_t77 k3_h39 => k3_hw7.1.2.2.2.2.2.2.2.2.2.2.2.2.2.1 k3_t77 k3_h39
theorem k3_off310_inb : ∀ (i : grid3.Coords) (v332 : BitVec 32) (v337 : BitVec 32) (k3_hw7 : k3_chk7 i v332 v337) (k3_t77 : Fin (k3_t77_loop i v332 v337).trips), ∀ (k3_h39 : k3_cond39 i v332 v337 = 1#1), ∀ a, (k3_off310 i v332 v337 k3_t77) a + S1x16.size a ≤ S256x128.size a := fun i v332 v337 k3_hw7 k3_t77 k3_h39 => k3_hw7.1.2.2.2.2.2.2.2.2.2.2.2.2.2.2.1 k3_t77 k3_h39
theorem k3_t78_ok : ∀ (i : grid3.Coords) (v332 : BitVec 32) (v337 : BitVec 32) (k3_hw7 : k3_chk7 i v332 v337), ∀ (k3_h39 : k3_cond39 i v332 v337 = 1#1), (k3_t78_loop i v332 v337).OK := fun i v332 v337 k3_hw7 k3_h39 => k3_hw7.1.2.2.2.2.2.2.2.2.2.2.2.2.2.2.2.1 k3_h39
theorem k3_off311_inb : ∀ (i : grid3.Coords) (v332 : BitVec 32) (v337 : BitVec 32) (k3_hw7 : k3_chk7 i v332 v337) (k3_t78 : Fin (k3_t78_loop i v332 v337).trips), ∀ (k3_h39 : k3_cond39 i v332 v337 = 1#1), ∀ a, (k3_off311 i v332 v337 k3_t78) a + S1x16.size a ≤ S256x128.size a := fun i v332 v337 k3_hw7 k3_t78 k3_h39 => k3_hw7.1.2.2.2.2.2.2.2.2.2.2.2.2.2.2.2.2.1 k3_t78 k3_h39
theorem k3_off312_inb : ∀ (i : grid3.Coords) (v332 : BitVec 32) (v337 : BitVec 32) (k3_hw7 : k3_chk7 i v332 v337) (k3_t78 : Fin (k3_t78_loop i v332 v337).trips), ∀ (k3_h39 : k3_cond39 i v332 v337 = 1#1), ∀ a, (k3_off312 i v332 v337 k3_t78) a + S1x16.size a ≤ S256x128.size a := fun i v332 v337 k3_hw7 k3_t78 k3_h39 => k3_hw7.1.2.2.2.2.2.2.2.2.2.2.2.2.2.2.2.2.2.1 k3_t78 k3_h39
theorem k3_off313_inb : ∀ (i : grid3.Coords) (v332 : BitVec 32) (v337 : BitVec 32) (k3_hw7 : k3_chk7 i v332 v337) (k3_t78 : Fin (k3_t78_loop i v332 v337).trips), ∀ (k3_h39 : k3_cond39 i v332 v337 = 1#1), ∀ a, (k3_off313 i v332 v337 k3_t78) a + S1x16.size a ≤ S256x128.size a := fun i v332 v337 k3_hw7 k3_t78 k3_h39 => k3_hw7.1.2.2.2.2.2.2.2.2.2.2.2.2.2.2.2.2.2.2.1 k3_t78 k3_h39
theorem k3_off314_inb : ∀ (i : grid3.Coords) (v332 : BitVec 32) (v337 : BitVec 32) (k3_hw7 : k3_chk7 i v332 v337) (k3_t78 : Fin (k3_t78_loop i v332 v337).trips), ∀ (k3_h39 : k3_cond39 i v332 v337 = 1#1), ∀ a, (k3_off314 i v332 v337 k3_t78) a + S1x16.size a ≤ S256x128.size a := fun i v332 v337 k3_hw7 k3_t78 k3_h39 => k3_hw7.1.2.2.2.2.2.2.2.2.2.2.2.2.2.2.2.2.2.2.2.1 k3_t78 k3_h39
theorem k3_t141_ok : ∀ (i : grid3.Coords) (v332 : BitVec 32) (v337 : BitVec 32) (k3_hw7 : k3_chk7 i v332 v337), ∀ (k3_h71 : k3_cond71 i v332 v337 = 1#1), (k3_t141_loop i v332 v337).OK := fun i v332 v337 k3_hw7 k3_h71 => k3_hw7.1.2.2.2.2.2.2.2.2.2.2.2.2.2.2.2.2.2.2.2.2.1 k3_h71
theorem k3_off563_inb : ∀ (i : grid3.Coords) (v332 : BitVec 32) (v337 : BitVec 32) (k3_hw7 : k3_chk7 i v332 v337) (k3_t141 : Fin (k3_t141_loop i v332 v337).trips), ∀ (k3_h71 : k3_cond71 i v332 v337 = 1#1), ∀ a, (k3_off563 i v332 v337 k3_t141) a + S1x16.size a ≤ S256x128.size a := fun i v332 v337 k3_hw7 k3_t141 k3_h71 => k3_hw7.1.2.2.2.2.2.2.2.2.2.2.2.2.2.2.2.2.2.2.2.2.2.1 k3_t141 k3_h71
theorem k3_off564_inb : ∀ (i : grid3.Coords) (v332 : BitVec 32) (v337 : BitVec 32) (k3_hw7 : k3_chk7 i v332 v337) (k3_t141 : Fin (k3_t141_loop i v332 v337).trips), ∀ (k3_h71 : k3_cond71 i v332 v337 = 1#1), ∀ a, (k3_off564 i v332 v337 k3_t141) a + S1x16.size a ≤ S256x128.size a := fun i v332 v337 k3_hw7 k3_t141 k3_h71 => k3_hw7.1.2.2.2.2.2.2.2.2.2.2.2.2.2.2.2.2.2.2.2.2.2.2.1 k3_t141 k3_h71
theorem k3_off565_inb : ∀ (i : grid3.Coords) (v332 : BitVec 32) (v337 : BitVec 32) (k3_hw7 : k3_chk7 i v332 v337) (k3_t141 : Fin (k3_t141_loop i v332 v337).trips), ∀ (k3_h71 : k3_cond71 i v332 v337 = 1#1), ∀ a, (k3_off565 i v332 v337 k3_t141) a + S1x16.size a ≤ S256x128.size a := fun i v332 v337 k3_hw7 k3_t141 k3_h71 => k3_hw7.1.2.2.2.2.2.2.2.2.2.2.2.2.2.2.2.2.2.2.2.2.2.2.2.1 k3_t141 k3_h71
theorem k3_off566_inb : ∀ (i : grid3.Coords) (v332 : BitVec 32) (v337 : BitVec 32) (k3_hw7 : k3_chk7 i v332 v337) (k3_t141 : Fin (k3_t141_loop i v332 v337).trips), ∀ (k3_h71 : k3_cond71 i v332 v337 = 1#1), ∀ a, (k3_off566 i v332 v337 k3_t141) a + S1x16.size a ≤ S256x128.size a := fun i v332 v337 k3_hw7 k3_t141 k3_h71 => k3_hw7.1.2.2.2.2.2.2.2.2.2.2.2.2.2.2.2.2.2.2.2.2.2.2.2.2.1 k3_t141 k3_h71
theorem k3_t142_ok : ∀ (i : grid3.Coords) (v332 : BitVec 32) (v337 : BitVec 32) (k3_hw7 : k3_chk7 i v332 v337), ∀ (k3_h71 : k3_cond71 i v332 v337 = 1#1), (k3_t142_loop i v332 v337).OK := fun i v332 v337 k3_hw7 k3_h71 => k3_hw7.1.2.2.2.2.2.2.2.2.2.2.2.2.2.2.2.2.2.2.2.2.2.2.2.2.2.1 k3_h71
theorem k3_off567_inb : ∀ (i : grid3.Coords) (v332 : BitVec 32) (v337 : BitVec 32) (k3_hw7 : k3_chk7 i v332 v337) (k3_t142 : Fin (k3_t142_loop i v332 v337).trips), ∀ (k3_h71 : k3_cond71 i v332 v337 = 1#1), ∀ a, (k3_off567 i v332 v337 k3_t142) a + S1x16.size a ≤ S256x128.size a := fun i v332 v337 k3_hw7 k3_t142 k3_h71 => k3_hw7.1.2.2.2.2.2.2.2.2.2.2.2.2.2.2.2.2.2.2.2.2.2.2.2.2.2.2.1 k3_t142 k3_h71
theorem k3_off568_inb : ∀ (i : grid3.Coords) (v332 : BitVec 32) (v337 : BitVec 32) (k3_hw7 : k3_chk7 i v332 v337) (k3_t142 : Fin (k3_t142_loop i v332 v337).trips), ∀ (k3_h71 : k3_cond71 i v332 v337 = 1#1), ∀ a, (k3_off568 i v332 v337 k3_t142) a + S1x16.size a ≤ S256x128.size a := fun i v332 v337 k3_hw7 k3_t142 k3_h71 => k3_hw7.1.2.2.2.2.2.2.2.2.2.2.2.2.2.2.2.2.2.2.2.2.2.2.2.2.2.2.2.1 k3_t142 k3_h71
theorem k3_off569_inb : ∀ (i : grid3.Coords) (v332 : BitVec 32) (v337 : BitVec 32) (k3_hw7 : k3_chk7 i v332 v337) (k3_t142 : Fin (k3_t142_loop i v332 v337).trips), ∀ (k3_h71 : k3_cond71 i v332 v337 = 1#1), ∀ a, (k3_off569 i v332 v337 k3_t142) a + S1x16.size a ≤ S256x128.size a := fun i v332 v337 k3_hw7 k3_t142 k3_h71 => k3_hw7.1.2.2.2.2.2.2.2.2.2.2.2.2.2.2.2.2.2.2.2.2.2.2.2.2.2.2.2.2.1 k3_t142 k3_h71
theorem k3_off570_inb : ∀ (i : grid3.Coords) (v332 : BitVec 32) (v337 : BitVec 32) (k3_hw7 : k3_chk7 i v332 v337) (k3_t142 : Fin (k3_t142_loop i v332 v337).trips), ∀ (k3_h71 : k3_cond71 i v332 v337 = 1#1), ∀ a, (k3_off570 i v332 v337 k3_t142) a + S1x16.size a ≤ S256x128.size a := fun i v332 v337 k3_hw7 k3_t142 k3_h71 => k3_hw7.1.2.2.2.2.2.2.2.2.2.2.2.2.2.2.2.2.2.2.2.2.2.2.2.2.2.2.2.2.2.1 k3_t142 k3_h71
theorem k3_t205_ok : ∀ (i : grid3.Coords) (v332 : BitVec 32) (v337 : BitVec 32) (k3_hw7 : k3_chk7 i v332 v337), ∀ (k3_h103 : k3_cond103 i v332 v337 = 1#1), (k3_t205_loop i v332 v337).OK := fun i v332 v337 k3_hw7 k3_h103 => k3_hw7.1.2.2.2.2.2.2.2.2.2.2.2.2.2.2.2.2.2.2.2.2.2.2.2.2.2.2.2.2.2.2.1 k3_h103
theorem k3_off819_inb : ∀ (i : grid3.Coords) (v332 : BitVec 32) (v337 : BitVec 32) (k3_hw7 : k3_chk7 i v332 v337) (k3_t205 : Fin (k3_t205_loop i v332 v337).trips), ∀ (k3_h103 : k3_cond103 i v332 v337 = 1#1), ∀ a, (k3_off819 i v332 v337 k3_t205) a + S1x16.size a ≤ S256x128.size a := fun i v332 v337 k3_hw7 k3_t205 k3_h103 => k3_hw7.1.2.2.2.2.2.2.2.2.2.2.2.2.2.2.2.2.2.2.2.2.2.2.2.2.2.2.2.2.2.2.2 k3_t205 k3_h103
theorem k3_off820_inb : ∀ (i : grid3.Coords) (v332 : BitVec 32) (v337 : BitVec 32) (k3_hw7 : k3_chk7 i v332 v337) (k3_t205 : Fin (k3_t205_loop i v332 v337).trips), ∀ (k3_h103 : k3_cond103 i v332 v337 = 1#1), ∀ a, (k3_off820 i v332 v337 k3_t205) a + S1x16.size a ≤ S256x128.size a := fun i v332 v337 k3_hw7 k3_t205 k3_h103 => k3_hw7.2.1 k3_t205 k3_h103
theorem k3_off821_inb : ∀ (i : grid3.Coords) (v332 : BitVec 32) (v337 : BitVec 32) (k3_hw7 : k3_chk7 i v332 v337) (k3_t205 : Fin (k3_t205_loop i v332 v337).trips), ∀ (k3_h103 : k3_cond103 i v332 v337 = 1#1), ∀ a, (k3_off821 i v332 v337 k3_t205) a + S1x16.size a ≤ S256x128.size a := fun i v332 v337 k3_hw7 k3_t205 k3_h103 => k3_hw7.2.2.1 k3_t205 k3_h103
theorem k3_off822_inb : ∀ (i : grid3.Coords) (v332 : BitVec 32) (v337 : BitVec 32) (k3_hw7 : k3_chk7 i v332 v337) (k3_t205 : Fin (k3_t205_loop i v332 v337).trips), ∀ (k3_h103 : k3_cond103 i v332 v337 = 1#1), ∀ a, (k3_off822 i v332 v337 k3_t205) a + S1x16.size a ≤ S256x128.size a := fun i v332 v337 k3_hw7 k3_t205 k3_h103 => k3_hw7.2.2.2.1 k3_t205 k3_h103
theorem k3_t206_ok : ∀ (i : grid3.Coords) (v332 : BitVec 32) (v337 : BitVec 32) (k3_hw7 : k3_chk7 i v332 v337), ∀ (k3_h103 : k3_cond103 i v332 v337 = 1#1), (k3_t206_loop i v332 v337).OK := fun i v332 v337 k3_hw7 k3_h103 => k3_hw7.2.2.2.2.1 k3_h103
theorem k3_off823_inb : ∀ (i : grid3.Coords) (v332 : BitVec 32) (v337 : BitVec 32) (k3_hw7 : k3_chk7 i v332 v337) (k3_t206 : Fin (k3_t206_loop i v332 v337).trips), ∀ (k3_h103 : k3_cond103 i v332 v337 = 1#1), ∀ a, (k3_off823 i v332 v337 k3_t206) a + S1x16.size a ≤ S256x128.size a := fun i v332 v337 k3_hw7 k3_t206 k3_h103 => k3_hw7.2.2.2.2.2.1 k3_t206 k3_h103
theorem k3_off824_inb : ∀ (i : grid3.Coords) (v332 : BitVec 32) (v337 : BitVec 32) (k3_hw7 : k3_chk7 i v332 v337) (k3_t206 : Fin (k3_t206_loop i v332 v337).trips), ∀ (k3_h103 : k3_cond103 i v332 v337 = 1#1), ∀ a, (k3_off824 i v332 v337 k3_t206) a + S1x16.size a ≤ S256x128.size a := fun i v332 v337 k3_hw7 k3_t206 k3_h103 => k3_hw7.2.2.2.2.2.2.1 k3_t206 k3_h103
theorem k3_off825_inb : ∀ (i : grid3.Coords) (v332 : BitVec 32) (v337 : BitVec 32) (k3_hw7 : k3_chk7 i v332 v337) (k3_t206 : Fin (k3_t206_loop i v332 v337).trips), ∀ (k3_h103 : k3_cond103 i v332 v337 = 1#1), ∀ a, (k3_off825 i v332 v337 k3_t206) a + S1x16.size a ≤ S256x128.size a := fun i v332 v337 k3_hw7 k3_t206 k3_h103 => k3_hw7.2.2.2.2.2.2.2.1 k3_t206 k3_h103
theorem k3_off826_inb : ∀ (i : grid3.Coords) (v332 : BitVec 32) (v337 : BitVec 32) (k3_hw7 : k3_chk7 i v332 v337) (k3_t206 : Fin (k3_t206_loop i v332 v337).trips), ∀ (k3_h103 : k3_cond103 i v332 v337 = 1#1), ∀ a, (k3_off826 i v332 v337 k3_t206) a + S1x16.size a ≤ S256x128.size a := fun i v332 v337 k3_hw7 k3_t206 k3_h103 => k3_hw7.2.2.2.2.2.2.2.2 k3_t206 k3_h103

@[reducible] def k3_t207_loop (i : grid3.Coords) (v342 : BitVec 32) (v348 : BitVec 32) : Scf.Loop 32 :=
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let c256_i32_1017 : BitVec 32 := 256#32
  let c0_i32_1016 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c768_i32_1015 : BitVec 32 := 768#32
  let v1571 : BitVec 32 := Scalar.subi v352 c768_i32_1015
  let v1572 : BitVec 32 := Scalar.maxsi c0_i32_1016 v1571
  let v1573 : BitVec 32 := Scalar.minsi c256_i32_1017 v1572
  let v1805 : BitVec 32 := Scalar.subi v1573 v1570
  let c1_i32_1195 : BitVec 32 := 1#32
  let v1807 : BitVec 32 := Scalar.divsi v1805 c1_i32_1195
  let v1808 : BitVec 32 := Scalar.muli v1807 c1_i32_1195
  let v1809 : BitVec 32 := Scalar.addi v1570 v1808
  let c1_i32_1196 : BitVec 32 := 1#32
  ⟨v1570, v1809, c1_i32_1196⟩
def k3_cond104 (i : grid3.Coords) (v342 : BitVec 32) (v348 : BitVec 32) : BitVec 1 :=
  let c256_i32_1017 : BitVec 32 := 256#32
  let c0_i32_1016 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v350 : BitVec 32 := Scalar.subi v349 v3
  let v351 : BitVec 32 := Scalar.maxsi c0_i32_148 v350
  let v352 : BitVec 32 := Scalar.minsi c1024_i32_149 v351
  let c768_i32_1015 : BitVec 32 := 768#32
  let v1571 : BitVec 32 := Scalar.subi v352 c768_i32_1015
  let v1572 : BitVec 32 := Scalar.maxsi c0_i32_1016 v1571
  let v1573 : BitVec 32 := Scalar.minsi c256_i32_1017 v1572
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let v1574 : BitVec 1 := Scalar.cmpi .sgt v1573 v1570
  let v1575 : BitVec 32 := Scalar.extui v1574
  let c0_i32_1018 : BitVec 32 := 0#32
  let v1576 : BitVec 1 := Scalar.cmpi .ne v1575 c0_i32_1018
  v1576

def k3_off827 (i : grid3.Coords) (v342 : BitVec 32) (v348 : BitVec 32) (k3_t207 : Fin (k3_t207_loop i v342 v348).trips) : Fin 2 → Nat :=
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let c1_i32_1196 : BitVec 32 := 1#32
  let arg13 : BitVec 32 := Scf.iv v1570 c1_i32_1196 k3_t207
  let v1828 : Index := Scalar.indexCast arg13
  let c64 : Index := 64#32
  ![v1828.toNat, 64]
def k3_off828 (i : grid3.Coords) (v342 : BitVec 32) (v348 : BitVec 32) (k3_t207 : Fin (k3_t207_loop i v342 v348).trips) : Fin 2 → Nat :=
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let c1_i32_1196 : BitVec 32 := 1#32
  let arg13 : BitVec 32 := Scf.iv v1570 c1_i32_1196 k3_t207
  let v1832 : Index := Scalar.indexCast arg13
  let c80 : Index := 80#32
  ![v1832.toNat, 80]
def k3_off829 (i : grid3.Coords) (v342 : BitVec 32) (v348 : BitVec 32) (k3_t207 : Fin (k3_t207_loop i v342 v348).trips) : Fin 2 → Nat :=
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let c1_i32_1196 : BitVec 32 := 1#32
  let arg13 : BitVec 32 := Scf.iv v1570 c1_i32_1196 k3_t207
  let v1836 : Index := Scalar.indexCast arg13
  let c96 : Index := 96#32
  ![v1836.toNat, 96]
def k3_off830 (i : grid3.Coords) (v342 : BitVec 32) (v348 : BitVec 32) (k3_t207 : Fin (k3_t207_loop i v342 v348).trips) : Fin 2 → Nat :=
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let c1_i32_1196 : BitVec 32 := 1#32
  let arg13 : BitVec 32 := Scf.iv v1570 c1_i32_1196 k3_t207
  let v1840 : Index := Scalar.indexCast arg13
  let c112 : Index := 112#32
  ![v1840.toNat, 112]
@[reducible] def k3_t208_loop (i : grid3.Coords) (v342 : BitVec 32) (v348 : BitVec 32) : Scf.Loop 32 :=
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let c256_i32_1017 : BitVec 32 := 256#32
  let c0_i32_1016 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c768_i32_1015 : BitVec 32 := 768#32
  let v1571 : BitVec 32 := Scalar.subi v352 c768_i32_1015
  let v1572 : BitVec 32 := Scalar.maxsi c0_i32_1016 v1571
  let v1573 : BitVec 32 := Scalar.minsi c256_i32_1017 v1572
  let v1805 : BitVec 32 := Scalar.subi v1573 v1570
  let c1_i32_1195 : BitVec 32 := 1#32
  let v1807 : BitVec 32 := Scalar.divsi v1805 c1_i32_1195
  let v1808 : BitVec 32 := Scalar.muli v1807 c1_i32_1195
  let v1809 : BitVec 32 := Scalar.addi v1570 v1808
  let v1806 : BitVec 32 := Scalar.addi v1570 v1805
  let c1_i32_1197 : BitVec 32 := 1#32
  ⟨v1809, v1806, c1_i32_1197⟩
def k3_off831 (i : grid3.Coords) (v342 : BitVec 32) (v348 : BitVec 32) (k3_t208 : Fin (k3_t208_loop i v342 v348).trips) : Fin 2 → Nat :=
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let c256_i32_1017 : BitVec 32 := 256#32
  let c0_i32_1016 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c768_i32_1015 : BitVec 32 := 768#32
  let v1571 : BitVec 32 := Scalar.subi v352 c768_i32_1015
  let v1572 : BitVec 32 := Scalar.maxsi c0_i32_1016 v1571
  let v1573 : BitVec 32 := Scalar.minsi c256_i32_1017 v1572
  let v1805 : BitVec 32 := Scalar.subi v1573 v1570
  let c1_i32_1195 : BitVec 32 := 1#32
  let v1807 : BitVec 32 := Scalar.divsi v1805 c1_i32_1195
  let v1808 : BitVec 32 := Scalar.muli v1807 c1_i32_1195
  let v1809 : BitVec 32 := Scalar.addi v1570 v1808
  let c1_i32_1197 : BitVec 32 := 1#32
  let arg13 : BitVec 32 := Scf.iv v1809 c1_i32_1197 k3_t208
  let v1828 : Index := Scalar.indexCast arg13
  let c64 : Index := 64#32
  ![v1828.toNat, 64]
def k3_off832 (i : grid3.Coords) (v342 : BitVec 32) (v348 : BitVec 32) (k3_t208 : Fin (k3_t208_loop i v342 v348).trips) : Fin 2 → Nat :=
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let c256_i32_1017 : BitVec 32 := 256#32
  let c0_i32_1016 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c768_i32_1015 : BitVec 32 := 768#32
  let v1571 : BitVec 32 := Scalar.subi v352 c768_i32_1015
  let v1572 : BitVec 32 := Scalar.maxsi c0_i32_1016 v1571
  let v1573 : BitVec 32 := Scalar.minsi c256_i32_1017 v1572
  let v1805 : BitVec 32 := Scalar.subi v1573 v1570
  let c1_i32_1195 : BitVec 32 := 1#32
  let v1807 : BitVec 32 := Scalar.divsi v1805 c1_i32_1195
  let v1808 : BitVec 32 := Scalar.muli v1807 c1_i32_1195
  let v1809 : BitVec 32 := Scalar.addi v1570 v1808
  let c1_i32_1197 : BitVec 32 := 1#32
  let arg13 : BitVec 32 := Scf.iv v1809 c1_i32_1197 k3_t208
  let v1832 : Index := Scalar.indexCast arg13
  let c80 : Index := 80#32
  ![v1832.toNat, 80]
def k3_off833 (i : grid3.Coords) (v342 : BitVec 32) (v348 : BitVec 32) (k3_t208 : Fin (k3_t208_loop i v342 v348).trips) : Fin 2 → Nat :=
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let c256_i32_1017 : BitVec 32 := 256#32
  let c0_i32_1016 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c768_i32_1015 : BitVec 32 := 768#32
  let v1571 : BitVec 32 := Scalar.subi v352 c768_i32_1015
  let v1572 : BitVec 32 := Scalar.maxsi c0_i32_1016 v1571
  let v1573 : BitVec 32 := Scalar.minsi c256_i32_1017 v1572
  let v1805 : BitVec 32 := Scalar.subi v1573 v1570
  let c1_i32_1195 : BitVec 32 := 1#32
  let v1807 : BitVec 32 := Scalar.divsi v1805 c1_i32_1195
  let v1808 : BitVec 32 := Scalar.muli v1807 c1_i32_1195
  let v1809 : BitVec 32 := Scalar.addi v1570 v1808
  let c1_i32_1197 : BitVec 32 := 1#32
  let arg13 : BitVec 32 := Scf.iv v1809 c1_i32_1197 k3_t208
  let v1836 : Index := Scalar.indexCast arg13
  let c96 : Index := 96#32
  ![v1836.toNat, 96]
def k3_off834 (i : grid3.Coords) (v342 : BitVec 32) (v348 : BitVec 32) (k3_t208 : Fin (k3_t208_loop i v342 v348).trips) : Fin 2 → Nat :=
  let c256_i32_1014 : BitVec 32 := 256#32
  let c0_i32_1013 : BitVec 32 := 0#32
  let c1024_i32_146 : BitVec 32 := 1024#32
  let c0_i32_145 : BitVec 32 := 0#32
  let c65536_i32_144 : BitVec 32 := 65536#32
  let v343 : BitVec 32 := Scalar.subi v342 c65536_i32_144
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v344 : BitVec 32 := Scalar.subi v343 v3
  let v345 : BitVec 32 := Scalar.maxsi c0_i32_145 v344
  let v346 : BitVec 32 := Scalar.minsi c1024_i32_146 v345
  let c768_i32_1012 : BitVec 32 := 768#32
  let v1568 : BitVec 32 := Scalar.subi v346 c768_i32_1012
  let v1569 : BitVec 32 := Scalar.maxsi c0_i32_1013 v1568
  let v1570 : BitVec 32 := Scalar.minsi c256_i32_1014 v1569
  let c256_i32_1017 : BitVec 32 := 256#32
  let c0_i32_1016 : BitVec 32 := 0#32
  let c1024_i32_149 : BitVec 32 := 1024#32
  let c0_i32_148 : BitVec 32 := 0#32
  let c65536_i32_147 : BitVec 32 := 65536#32
  let v349 : BitVec 32 := Scalar.subi v348 c65536_i32_147
  let v350 : BitVec 32 := Scalar.subi v349 v3
  let v351 : BitVec 32 := Scalar.maxsi c0_i32_148 v350
  let v352 : BitVec 32 := Scalar.minsi c1024_i32_149 v351
  let c768_i32_1015 : BitVec 32 := 768#32
  let v1571 : BitVec 32 := Scalar.subi v352 c768_i32_1015
  let v1572 : BitVec 32 := Scalar.maxsi c0_i32_1016 v1571
  let v1573 : BitVec 32 := Scalar.minsi c256_i32_1017 v1572
  let v1805 : BitVec 32 := Scalar.subi v1573 v1570
  let c1_i32_1195 : BitVec 32 := 1#32
  let v1807 : BitVec 32 := Scalar.divsi v1805 c1_i32_1195
  let v1808 : BitVec 32 := Scalar.muli v1807 c1_i32_1195
  let v1809 : BitVec 32 := Scalar.addi v1570 v1808
  let c1_i32_1197 : BitVec 32 := 1#32
  let arg13 : BitVec 32 := Scf.iv v1809 c1_i32_1197 k3_t208
  let v1840 : Index := Scalar.indexCast arg13
  let c112 : Index := 112#32
  ![v1840.toNat, 112]

def k3_chk8_0 (i : grid3.Coords) (v342 : BitVec 32) (v348 : BitVec 32) : Prop :=
  (∀ (k3_h8 : k3_cond8 i v342 v348 = 1#1), (k3_t15_loop i v342 v348).OK) ∧
  (∀ k3_t15 : Fin (k3_t15_loop i v342 v348).trips, ∀ (k3_h8 : k3_cond8 i v342 v348 = 1#1), ∀ a, (k3_off58 i v342 v348 k3_t15) a + S1x16.size a ≤ S256x128.size a) ∧
  (∀ k3_t15 : Fin (k3_t15_loop i v342 v348).trips, ∀ (k3_h8 : k3_cond8 i v342 v348 = 1#1), ∀ a, (k3_off59 i v342 v348 k3_t15) a + S1x16.size a ≤ S256x128.size a) ∧
  (∀ k3_t15 : Fin (k3_t15_loop i v342 v348).trips, ∀ (k3_h8 : k3_cond8 i v342 v348 = 1#1), ∀ a, (k3_off60 i v342 v348 k3_t15) a + S1x16.size a ≤ S256x128.size a) ∧
  (∀ k3_t15 : Fin (k3_t15_loop i v342 v348).trips, ∀ (k3_h8 : k3_cond8 i v342 v348 = 1#1), ∀ a, (k3_off61 i v342 v348 k3_t15) a + S1x16.size a ≤ S256x128.size a) ∧
  (∀ (k3_h8 : k3_cond8 i v342 v348 = 1#1), (k3_t16_loop i v342 v348).OK) ∧
  (∀ k3_t16 : Fin (k3_t16_loop i v342 v348).trips, ∀ (k3_h8 : k3_cond8 i v342 v348 = 1#1), ∀ a, (k3_off62 i v342 v348 k3_t16) a + S1x16.size a ≤ S256x128.size a) ∧
  (∀ k3_t16 : Fin (k3_t16_loop i v342 v348).trips, ∀ (k3_h8 : k3_cond8 i v342 v348 = 1#1), ∀ a, (k3_off63 i v342 v348 k3_t16) a + S1x16.size a ≤ S256x128.size a) ∧
  (∀ k3_t16 : Fin (k3_t16_loop i v342 v348).trips, ∀ (k3_h8 : k3_cond8 i v342 v348 = 1#1), ∀ a, (k3_off64 i v342 v348 k3_t16) a + S1x16.size a ≤ S256x128.size a) ∧
  (∀ k3_t16 : Fin (k3_t16_loop i v342 v348).trips, ∀ (k3_h8 : k3_cond8 i v342 v348 = 1#1), ∀ a, (k3_off65 i v342 v348 k3_t16) a + S1x16.size a ≤ S256x128.size a) ∧
  (∀ (k3_h40 : k3_cond40 i v342 v348 = 1#1), (k3_t79_loop i v342 v348).OK) ∧
  (∀ k3_t79 : Fin (k3_t79_loop i v342 v348).trips, ∀ (k3_h40 : k3_cond40 i v342 v348 = 1#1), ∀ a, (k3_off315 i v342 v348 k3_t79) a + S1x16.size a ≤ S256x128.size a) ∧
  (∀ k3_t79 : Fin (k3_t79_loop i v342 v348).trips, ∀ (k3_h40 : k3_cond40 i v342 v348 = 1#1), ∀ a, (k3_off316 i v342 v348 k3_t79) a + S1x16.size a ≤ S256x128.size a) ∧
  (∀ k3_t79 : Fin (k3_t79_loop i v342 v348).trips, ∀ (k3_h40 : k3_cond40 i v342 v348 = 1#1), ∀ a, (k3_off317 i v342 v348 k3_t79) a + S1x16.size a ≤ S256x128.size a) ∧
  (∀ k3_t79 : Fin (k3_t79_loop i v342 v348).trips, ∀ (k3_h40 : k3_cond40 i v342 v348 = 1#1), ∀ a, (k3_off318 i v342 v348 k3_t79) a + S1x16.size a ≤ S256x128.size a) ∧
  (∀ (k3_h40 : k3_cond40 i v342 v348 = 1#1), (k3_t80_loop i v342 v348).OK) ∧
  (∀ k3_t80 : Fin (k3_t80_loop i v342 v348).trips, ∀ (k3_h40 : k3_cond40 i v342 v348 = 1#1), ∀ a, (k3_off319 i v342 v348 k3_t80) a + S1x16.size a ≤ S256x128.size a) ∧
  (∀ k3_t80 : Fin (k3_t80_loop i v342 v348).trips, ∀ (k3_h40 : k3_cond40 i v342 v348 = 1#1), ∀ a, (k3_off320 i v342 v348 k3_t80) a + S1x16.size a ≤ S256x128.size a) ∧
  (∀ k3_t80 : Fin (k3_t80_loop i v342 v348).trips, ∀ (k3_h40 : k3_cond40 i v342 v348 = 1#1), ∀ a, (k3_off321 i v342 v348 k3_t80) a + S1x16.size a ≤ S256x128.size a) ∧
  (∀ k3_t80 : Fin (k3_t80_loop i v342 v348).trips, ∀ (k3_h40 : k3_cond40 i v342 v348 = 1#1), ∀ a, (k3_off322 i v342 v348 k3_t80) a + S1x16.size a ≤ S256x128.size a) ∧
  (∀ (k3_h72 : k3_cond72 i v342 v348 = 1#1), (k3_t143_loop i v342 v348).OK) ∧
  (∀ k3_t143 : Fin (k3_t143_loop i v342 v348).trips, ∀ (k3_h72 : k3_cond72 i v342 v348 = 1#1), ∀ a, (k3_off571 i v342 v348 k3_t143) a + S1x16.size a ≤ S256x128.size a) ∧
  (∀ k3_t143 : Fin (k3_t143_loop i v342 v348).trips, ∀ (k3_h72 : k3_cond72 i v342 v348 = 1#1), ∀ a, (k3_off572 i v342 v348 k3_t143) a + S1x16.size a ≤ S256x128.size a) ∧
  (∀ k3_t143 : Fin (k3_t143_loop i v342 v348).trips, ∀ (k3_h72 : k3_cond72 i v342 v348 = 1#1), ∀ a, (k3_off573 i v342 v348 k3_t143) a + S1x16.size a ≤ S256x128.size a) ∧
  (∀ k3_t143 : Fin (k3_t143_loop i v342 v348).trips, ∀ (k3_h72 : k3_cond72 i v342 v348 = 1#1), ∀ a, (k3_off574 i v342 v348 k3_t143) a + S1x16.size a ≤ S256x128.size a) ∧
  (∀ (k3_h72 : k3_cond72 i v342 v348 = 1#1), (k3_t144_loop i v342 v348).OK) ∧
  (∀ k3_t144 : Fin (k3_t144_loop i v342 v348).trips, ∀ (k3_h72 : k3_cond72 i v342 v348 = 1#1), ∀ a, (k3_off575 i v342 v348 k3_t144) a + S1x16.size a ≤ S256x128.size a) ∧
  (∀ k3_t144 : Fin (k3_t144_loop i v342 v348).trips, ∀ (k3_h72 : k3_cond72 i v342 v348 = 1#1), ∀ a, (k3_off576 i v342 v348 k3_t144) a + S1x16.size a ≤ S256x128.size a) ∧
  (∀ k3_t144 : Fin (k3_t144_loop i v342 v348).trips, ∀ (k3_h72 : k3_cond72 i v342 v348 = 1#1), ∀ a, (k3_off577 i v342 v348 k3_t144) a + S1x16.size a ≤ S256x128.size a) ∧
  (∀ k3_t144 : Fin (k3_t144_loop i v342 v348).trips, ∀ (k3_h72 : k3_cond72 i v342 v348 = 1#1), ∀ a, (k3_off578 i v342 v348 k3_t144) a + S1x16.size a ≤ S256x128.size a) ∧
  (∀ (k3_h104 : k3_cond104 i v342 v348 = 1#1), (k3_t207_loop i v342 v348).OK) ∧
  (∀ k3_t207 : Fin (k3_t207_loop i v342 v348).trips, ∀ (k3_h104 : k3_cond104 i v342 v348 = 1#1), ∀ a, (k3_off827 i v342 v348 k3_t207) a + S1x16.size a ≤ S256x128.size a)
def k3_chk8_1 (i : grid3.Coords) (v342 : BitVec 32) (v348 : BitVec 32) : Prop :=
  (∀ k3_t207 : Fin (k3_t207_loop i v342 v348).trips, ∀ (k3_h104 : k3_cond104 i v342 v348 = 1#1), ∀ a, (k3_off828 i v342 v348 k3_t207) a + S1x16.size a ≤ S256x128.size a) ∧
  (∀ k3_t207 : Fin (k3_t207_loop i v342 v348).trips, ∀ (k3_h104 : k3_cond104 i v342 v348 = 1#1), ∀ a, (k3_off829 i v342 v348 k3_t207) a + S1x16.size a ≤ S256x128.size a) ∧
  (∀ k3_t207 : Fin (k3_t207_loop i v342 v348).trips, ∀ (k3_h104 : k3_cond104 i v342 v348 = 1#1), ∀ a, (k3_off830 i v342 v348 k3_t207) a + S1x16.size a ≤ S256x128.size a) ∧
  (∀ (k3_h104 : k3_cond104 i v342 v348 = 1#1), (k3_t208_loop i v342 v348).OK) ∧
  (∀ k3_t208 : Fin (k3_t208_loop i v342 v348).trips, ∀ (k3_h104 : k3_cond104 i v342 v348 = 1#1), ∀ a, (k3_off831 i v342 v348 k3_t208) a + S1x16.size a ≤ S256x128.size a) ∧
  (∀ k3_t208 : Fin (k3_t208_loop i v342 v348).trips, ∀ (k3_h104 : k3_cond104 i v342 v348 = 1#1), ∀ a, (k3_off832 i v342 v348 k3_t208) a + S1x16.size a ≤ S256x128.size a) ∧
  (∀ k3_t208 : Fin (k3_t208_loop i v342 v348).trips, ∀ (k3_h104 : k3_cond104 i v342 v348 = 1#1), ∀ a, (k3_off833 i v342 v348 k3_t208) a + S1x16.size a ≤ S256x128.size a) ∧
  (∀ k3_t208 : Fin (k3_t208_loop i v342 v348).trips, ∀ (k3_h104 : k3_cond104 i v342 v348 = 1#1), ∀ a, (k3_off834 i v342 v348 k3_t208) a + S1x16.size a ≤ S256x128.size a)
def k3_chk8 (i : grid3.Coords) (v342 : BitVec 32) (v348 : BitVec 32) : Prop :=
  k3_chk8_0 i v342 v348 ∧
  k3_chk8_1 i v342 v348
theorem k3_t15_ok : ∀ (i : grid3.Coords) (v342 : BitVec 32) (v348 : BitVec 32) (k3_hw8 : k3_chk8 i v342 v348), ∀ (k3_h8 : k3_cond8 i v342 v348 = 1#1), (k3_t15_loop i v342 v348).OK := fun i v342 v348 k3_hw8 k3_h8 => k3_hw8.1.1 k3_h8
theorem k3_off58_inb : ∀ (i : grid3.Coords) (v342 : BitVec 32) (v348 : BitVec 32) (k3_hw8 : k3_chk8 i v342 v348) (k3_t15 : Fin (k3_t15_loop i v342 v348).trips), ∀ (k3_h8 : k3_cond8 i v342 v348 = 1#1), ∀ a, (k3_off58 i v342 v348 k3_t15) a + S1x16.size a ≤ S256x128.size a := fun i v342 v348 k3_hw8 k3_t15 k3_h8 => k3_hw8.1.2.1 k3_t15 k3_h8
theorem k3_off59_inb : ∀ (i : grid3.Coords) (v342 : BitVec 32) (v348 : BitVec 32) (k3_hw8 : k3_chk8 i v342 v348) (k3_t15 : Fin (k3_t15_loop i v342 v348).trips), ∀ (k3_h8 : k3_cond8 i v342 v348 = 1#1), ∀ a, (k3_off59 i v342 v348 k3_t15) a + S1x16.size a ≤ S256x128.size a := fun i v342 v348 k3_hw8 k3_t15 k3_h8 => k3_hw8.1.2.2.1 k3_t15 k3_h8
theorem k3_off60_inb : ∀ (i : grid3.Coords) (v342 : BitVec 32) (v348 : BitVec 32) (k3_hw8 : k3_chk8 i v342 v348) (k3_t15 : Fin (k3_t15_loop i v342 v348).trips), ∀ (k3_h8 : k3_cond8 i v342 v348 = 1#1), ∀ a, (k3_off60 i v342 v348 k3_t15) a + S1x16.size a ≤ S256x128.size a := fun i v342 v348 k3_hw8 k3_t15 k3_h8 => k3_hw8.1.2.2.2.1 k3_t15 k3_h8
theorem k3_off61_inb : ∀ (i : grid3.Coords) (v342 : BitVec 32) (v348 : BitVec 32) (k3_hw8 : k3_chk8 i v342 v348) (k3_t15 : Fin (k3_t15_loop i v342 v348).trips), ∀ (k3_h8 : k3_cond8 i v342 v348 = 1#1), ∀ a, (k3_off61 i v342 v348 k3_t15) a + S1x16.size a ≤ S256x128.size a := fun i v342 v348 k3_hw8 k3_t15 k3_h8 => k3_hw8.1.2.2.2.2.1 k3_t15 k3_h8
theorem k3_t16_ok : ∀ (i : grid3.Coords) (v342 : BitVec 32) (v348 : BitVec 32) (k3_hw8 : k3_chk8 i v342 v348), ∀ (k3_h8 : k3_cond8 i v342 v348 = 1#1), (k3_t16_loop i v342 v348).OK := fun i v342 v348 k3_hw8 k3_h8 => k3_hw8.1.2.2.2.2.2.1 k3_h8
theorem k3_off62_inb : ∀ (i : grid3.Coords) (v342 : BitVec 32) (v348 : BitVec 32) (k3_hw8 : k3_chk8 i v342 v348) (k3_t16 : Fin (k3_t16_loop i v342 v348).trips), ∀ (k3_h8 : k3_cond8 i v342 v348 = 1#1), ∀ a, (k3_off62 i v342 v348 k3_t16) a + S1x16.size a ≤ S256x128.size a := fun i v342 v348 k3_hw8 k3_t16 k3_h8 => k3_hw8.1.2.2.2.2.2.2.1 k3_t16 k3_h8
theorem k3_off63_inb : ∀ (i : grid3.Coords) (v342 : BitVec 32) (v348 : BitVec 32) (k3_hw8 : k3_chk8 i v342 v348) (k3_t16 : Fin (k3_t16_loop i v342 v348).trips), ∀ (k3_h8 : k3_cond8 i v342 v348 = 1#1), ∀ a, (k3_off63 i v342 v348 k3_t16) a + S1x16.size a ≤ S256x128.size a := fun i v342 v348 k3_hw8 k3_t16 k3_h8 => k3_hw8.1.2.2.2.2.2.2.2.1 k3_t16 k3_h8
theorem k3_off64_inb : ∀ (i : grid3.Coords) (v342 : BitVec 32) (v348 : BitVec 32) (k3_hw8 : k3_chk8 i v342 v348) (k3_t16 : Fin (k3_t16_loop i v342 v348).trips), ∀ (k3_h8 : k3_cond8 i v342 v348 = 1#1), ∀ a, (k3_off64 i v342 v348 k3_t16) a + S1x16.size a ≤ S256x128.size a := fun i v342 v348 k3_hw8 k3_t16 k3_h8 => k3_hw8.1.2.2.2.2.2.2.2.2.1 k3_t16 k3_h8
theorem k3_off65_inb : ∀ (i : grid3.Coords) (v342 : BitVec 32) (v348 : BitVec 32) (k3_hw8 : k3_chk8 i v342 v348) (k3_t16 : Fin (k3_t16_loop i v342 v348).trips), ∀ (k3_h8 : k3_cond8 i v342 v348 = 1#1), ∀ a, (k3_off65 i v342 v348 k3_t16) a + S1x16.size a ≤ S256x128.size a := fun i v342 v348 k3_hw8 k3_t16 k3_h8 => k3_hw8.1.2.2.2.2.2.2.2.2.2.1 k3_t16 k3_h8
theorem k3_t79_ok : ∀ (i : grid3.Coords) (v342 : BitVec 32) (v348 : BitVec 32) (k3_hw8 : k3_chk8 i v342 v348), ∀ (k3_h40 : k3_cond40 i v342 v348 = 1#1), (k3_t79_loop i v342 v348).OK := fun i v342 v348 k3_hw8 k3_h40 => k3_hw8.1.2.2.2.2.2.2.2.2.2.2.1 k3_h40
theorem k3_off315_inb : ∀ (i : grid3.Coords) (v342 : BitVec 32) (v348 : BitVec 32) (k3_hw8 : k3_chk8 i v342 v348) (k3_t79 : Fin (k3_t79_loop i v342 v348).trips), ∀ (k3_h40 : k3_cond40 i v342 v348 = 1#1), ∀ a, (k3_off315 i v342 v348 k3_t79) a + S1x16.size a ≤ S256x128.size a := fun i v342 v348 k3_hw8 k3_t79 k3_h40 => k3_hw8.1.2.2.2.2.2.2.2.2.2.2.2.1 k3_t79 k3_h40
theorem k3_off316_inb : ∀ (i : grid3.Coords) (v342 : BitVec 32) (v348 : BitVec 32) (k3_hw8 : k3_chk8 i v342 v348) (k3_t79 : Fin (k3_t79_loop i v342 v348).trips), ∀ (k3_h40 : k3_cond40 i v342 v348 = 1#1), ∀ a, (k3_off316 i v342 v348 k3_t79) a + S1x16.size a ≤ S256x128.size a := fun i v342 v348 k3_hw8 k3_t79 k3_h40 => k3_hw8.1.2.2.2.2.2.2.2.2.2.2.2.2.1 k3_t79 k3_h40
theorem k3_off317_inb : ∀ (i : grid3.Coords) (v342 : BitVec 32) (v348 : BitVec 32) (k3_hw8 : k3_chk8 i v342 v348) (k3_t79 : Fin (k3_t79_loop i v342 v348).trips), ∀ (k3_h40 : k3_cond40 i v342 v348 = 1#1), ∀ a, (k3_off317 i v342 v348 k3_t79) a + S1x16.size a ≤ S256x128.size a := fun i v342 v348 k3_hw8 k3_t79 k3_h40 => k3_hw8.1.2.2.2.2.2.2.2.2.2.2.2.2.2.1 k3_t79 k3_h40
theorem k3_off318_inb : ∀ (i : grid3.Coords) (v342 : BitVec 32) (v348 : BitVec 32) (k3_hw8 : k3_chk8 i v342 v348) (k3_t79 : Fin (k3_t79_loop i v342 v348).trips), ∀ (k3_h40 : k3_cond40 i v342 v348 = 1#1), ∀ a, (k3_off318 i v342 v348 k3_t79) a + S1x16.size a ≤ S256x128.size a := fun i v342 v348 k3_hw8 k3_t79 k3_h40 => k3_hw8.1.2.2.2.2.2.2.2.2.2.2.2.2.2.2.1 k3_t79 k3_h40
theorem k3_t80_ok : ∀ (i : grid3.Coords) (v342 : BitVec 32) (v348 : BitVec 32) (k3_hw8 : k3_chk8 i v342 v348), ∀ (k3_h40 : k3_cond40 i v342 v348 = 1#1), (k3_t80_loop i v342 v348).OK := fun i v342 v348 k3_hw8 k3_h40 => k3_hw8.1.2.2.2.2.2.2.2.2.2.2.2.2.2.2.2.1 k3_h40
theorem k3_off319_inb : ∀ (i : grid3.Coords) (v342 : BitVec 32) (v348 : BitVec 32) (k3_hw8 : k3_chk8 i v342 v348) (k3_t80 : Fin (k3_t80_loop i v342 v348).trips), ∀ (k3_h40 : k3_cond40 i v342 v348 = 1#1), ∀ a, (k3_off319 i v342 v348 k3_t80) a + S1x16.size a ≤ S256x128.size a := fun i v342 v348 k3_hw8 k3_t80 k3_h40 => k3_hw8.1.2.2.2.2.2.2.2.2.2.2.2.2.2.2.2.2.1 k3_t80 k3_h40
theorem k3_off320_inb : ∀ (i : grid3.Coords) (v342 : BitVec 32) (v348 : BitVec 32) (k3_hw8 : k3_chk8 i v342 v348) (k3_t80 : Fin (k3_t80_loop i v342 v348).trips), ∀ (k3_h40 : k3_cond40 i v342 v348 = 1#1), ∀ a, (k3_off320 i v342 v348 k3_t80) a + S1x16.size a ≤ S256x128.size a := fun i v342 v348 k3_hw8 k3_t80 k3_h40 => k3_hw8.1.2.2.2.2.2.2.2.2.2.2.2.2.2.2.2.2.2.1 k3_t80 k3_h40
theorem k3_off321_inb : ∀ (i : grid3.Coords) (v342 : BitVec 32) (v348 : BitVec 32) (k3_hw8 : k3_chk8 i v342 v348) (k3_t80 : Fin (k3_t80_loop i v342 v348).trips), ∀ (k3_h40 : k3_cond40 i v342 v348 = 1#1), ∀ a, (k3_off321 i v342 v348 k3_t80) a + S1x16.size a ≤ S256x128.size a := fun i v342 v348 k3_hw8 k3_t80 k3_h40 => k3_hw8.1.2.2.2.2.2.2.2.2.2.2.2.2.2.2.2.2.2.2.1 k3_t80 k3_h40
theorem k3_off322_inb : ∀ (i : grid3.Coords) (v342 : BitVec 32) (v348 : BitVec 32) (k3_hw8 : k3_chk8 i v342 v348) (k3_t80 : Fin (k3_t80_loop i v342 v348).trips), ∀ (k3_h40 : k3_cond40 i v342 v348 = 1#1), ∀ a, (k3_off322 i v342 v348 k3_t80) a + S1x16.size a ≤ S256x128.size a := fun i v342 v348 k3_hw8 k3_t80 k3_h40 => k3_hw8.1.2.2.2.2.2.2.2.2.2.2.2.2.2.2.2.2.2.2.2.1 k3_t80 k3_h40
theorem k3_t143_ok : ∀ (i : grid3.Coords) (v342 : BitVec 32) (v348 : BitVec 32) (k3_hw8 : k3_chk8 i v342 v348), ∀ (k3_h72 : k3_cond72 i v342 v348 = 1#1), (k3_t143_loop i v342 v348).OK := fun i v342 v348 k3_hw8 k3_h72 => k3_hw8.1.2.2.2.2.2.2.2.2.2.2.2.2.2.2.2.2.2.2.2.2.1 k3_h72
theorem k3_off571_inb : ∀ (i : grid3.Coords) (v342 : BitVec 32) (v348 : BitVec 32) (k3_hw8 : k3_chk8 i v342 v348) (k3_t143 : Fin (k3_t143_loop i v342 v348).trips), ∀ (k3_h72 : k3_cond72 i v342 v348 = 1#1), ∀ a, (k3_off571 i v342 v348 k3_t143) a + S1x16.size a ≤ S256x128.size a := fun i v342 v348 k3_hw8 k3_t143 k3_h72 => k3_hw8.1.2.2.2.2.2.2.2.2.2.2.2.2.2.2.2.2.2.2.2.2.2.1 k3_t143 k3_h72
theorem k3_off572_inb : ∀ (i : grid3.Coords) (v342 : BitVec 32) (v348 : BitVec 32) (k3_hw8 : k3_chk8 i v342 v348) (k3_t143 : Fin (k3_t143_loop i v342 v348).trips), ∀ (k3_h72 : k3_cond72 i v342 v348 = 1#1), ∀ a, (k3_off572 i v342 v348 k3_t143) a + S1x16.size a ≤ S256x128.size a := fun i v342 v348 k3_hw8 k3_t143 k3_h72 => k3_hw8.1.2.2.2.2.2.2.2.2.2.2.2.2.2.2.2.2.2.2.2.2.2.2.1 k3_t143 k3_h72
theorem k3_off573_inb : ∀ (i : grid3.Coords) (v342 : BitVec 32) (v348 : BitVec 32) (k3_hw8 : k3_chk8 i v342 v348) (k3_t143 : Fin (k3_t143_loop i v342 v348).trips), ∀ (k3_h72 : k3_cond72 i v342 v348 = 1#1), ∀ a, (k3_off573 i v342 v348 k3_t143) a + S1x16.size a ≤ S256x128.size a := fun i v342 v348 k3_hw8 k3_t143 k3_h72 => k3_hw8.1.2.2.2.2.2.2.2.2.2.2.2.2.2.2.2.2.2.2.2.2.2.2.2.1 k3_t143 k3_h72
theorem k3_off574_inb : ∀ (i : grid3.Coords) (v342 : BitVec 32) (v348 : BitVec 32) (k3_hw8 : k3_chk8 i v342 v348) (k3_t143 : Fin (k3_t143_loop i v342 v348).trips), ∀ (k3_h72 : k3_cond72 i v342 v348 = 1#1), ∀ a, (k3_off574 i v342 v348 k3_t143) a + S1x16.size a ≤ S256x128.size a := fun i v342 v348 k3_hw8 k3_t143 k3_h72 => k3_hw8.1.2.2.2.2.2.2.2.2.2.2.2.2.2.2.2.2.2.2.2.2.2.2.2.2.1 k3_t143 k3_h72
theorem k3_t144_ok : ∀ (i : grid3.Coords) (v342 : BitVec 32) (v348 : BitVec 32) (k3_hw8 : k3_chk8 i v342 v348), ∀ (k3_h72 : k3_cond72 i v342 v348 = 1#1), (k3_t144_loop i v342 v348).OK := fun i v342 v348 k3_hw8 k3_h72 => k3_hw8.1.2.2.2.2.2.2.2.2.2.2.2.2.2.2.2.2.2.2.2.2.2.2.2.2.2.1 k3_h72
theorem k3_off575_inb : ∀ (i : grid3.Coords) (v342 : BitVec 32) (v348 : BitVec 32) (k3_hw8 : k3_chk8 i v342 v348) (k3_t144 : Fin (k3_t144_loop i v342 v348).trips), ∀ (k3_h72 : k3_cond72 i v342 v348 = 1#1), ∀ a, (k3_off575 i v342 v348 k3_t144) a + S1x16.size a ≤ S256x128.size a := fun i v342 v348 k3_hw8 k3_t144 k3_h72 => k3_hw8.1.2.2.2.2.2.2.2.2.2.2.2.2.2.2.2.2.2.2.2.2.2.2.2.2.2.2.1 k3_t144 k3_h72
theorem k3_off576_inb : ∀ (i : grid3.Coords) (v342 : BitVec 32) (v348 : BitVec 32) (k3_hw8 : k3_chk8 i v342 v348) (k3_t144 : Fin (k3_t144_loop i v342 v348).trips), ∀ (k3_h72 : k3_cond72 i v342 v348 = 1#1), ∀ a, (k3_off576 i v342 v348 k3_t144) a + S1x16.size a ≤ S256x128.size a := fun i v342 v348 k3_hw8 k3_t144 k3_h72 => k3_hw8.1.2.2.2.2.2.2.2.2.2.2.2.2.2.2.2.2.2.2.2.2.2.2.2.2.2.2.2.1 k3_t144 k3_h72
theorem k3_off577_inb : ∀ (i : grid3.Coords) (v342 : BitVec 32) (v348 : BitVec 32) (k3_hw8 : k3_chk8 i v342 v348) (k3_t144 : Fin (k3_t144_loop i v342 v348).trips), ∀ (k3_h72 : k3_cond72 i v342 v348 = 1#1), ∀ a, (k3_off577 i v342 v348 k3_t144) a + S1x16.size a ≤ S256x128.size a := fun i v342 v348 k3_hw8 k3_t144 k3_h72 => k3_hw8.1.2.2.2.2.2.2.2.2.2.2.2.2.2.2.2.2.2.2.2.2.2.2.2.2.2.2.2.2.1 k3_t144 k3_h72
theorem k3_off578_inb : ∀ (i : grid3.Coords) (v342 : BitVec 32) (v348 : BitVec 32) (k3_hw8 : k3_chk8 i v342 v348) (k3_t144 : Fin (k3_t144_loop i v342 v348).trips), ∀ (k3_h72 : k3_cond72 i v342 v348 = 1#1), ∀ a, (k3_off578 i v342 v348 k3_t144) a + S1x16.size a ≤ S256x128.size a := fun i v342 v348 k3_hw8 k3_t144 k3_h72 => k3_hw8.1.2.2.2.2.2.2.2.2.2.2.2.2.2.2.2.2.2.2.2.2.2.2.2.2.2.2.2.2.2.1 k3_t144 k3_h72
theorem k3_t207_ok : ∀ (i : grid3.Coords) (v342 : BitVec 32) (v348 : BitVec 32) (k3_hw8 : k3_chk8 i v342 v348), ∀ (k3_h104 : k3_cond104 i v342 v348 = 1#1), (k3_t207_loop i v342 v348).OK := fun i v342 v348 k3_hw8 k3_h104 => k3_hw8.1.2.2.2.2.2.2.2.2.2.2.2.2.2.2.2.2.2.2.2.2.2.2.2.2.2.2.2.2.2.2.1 k3_h104
theorem k3_off827_inb : ∀ (i : grid3.Coords) (v342 : BitVec 32) (v348 : BitVec 32) (k3_hw8 : k3_chk8 i v342 v348) (k3_t207 : Fin (k3_t207_loop i v342 v348).trips), ∀ (k3_h104 : k3_cond104 i v342 v348 = 1#1), ∀ a, (k3_off827 i v342 v348 k3_t207) a + S1x16.size a ≤ S256x128.size a := fun i v342 v348 k3_hw8 k3_t207 k3_h104 => k3_hw8.1.2.2.2.2.2.2.2.2.2.2.2.2.2.2.2.2.2.2.2.2.2.2.2.2.2.2.2.2.2.2.2 k3_t207 k3_h104
theorem k3_off828_inb : ∀ (i : grid3.Coords) (v342 : BitVec 32) (v348 : BitVec 32) (k3_hw8 : k3_chk8 i v342 v348) (k3_t207 : Fin (k3_t207_loop i v342 v348).trips), ∀ (k3_h104 : k3_cond104 i v342 v348 = 1#1), ∀ a, (k3_off828 i v342 v348 k3_t207) a + S1x16.size a ≤ S256x128.size a := fun i v342 v348 k3_hw8 k3_t207 k3_h104 => k3_hw8.2.1 k3_t207 k3_h104
theorem k3_off829_inb : ∀ (i : grid3.Coords) (v342 : BitVec 32) (v348 : BitVec 32) (k3_hw8 : k3_chk8 i v342 v348) (k3_t207 : Fin (k3_t207_loop i v342 v348).trips), ∀ (k3_h104 : k3_cond104 i v342 v348 = 1#1), ∀ a, (k3_off829 i v342 v348 k3_t207) a + S1x16.size a ≤ S256x128.size a := fun i v342 v348 k3_hw8 k3_t207 k3_h104 => k3_hw8.2.2.1 k3_t207 k3_h104
theorem k3_off830_inb : ∀ (i : grid3.Coords) (v342 : BitVec 32) (v348 : BitVec 32) (k3_hw8 : k3_chk8 i v342 v348) (k3_t207 : Fin (k3_t207_loop i v342 v348).trips), ∀ (k3_h104 : k3_cond104 i v342 v348 = 1#1), ∀ a, (k3_off830 i v342 v348 k3_t207) a + S1x16.size a ≤ S256x128.size a := fun i v342 v348 k3_hw8 k3_t207 k3_h104 => k3_hw8.2.2.2.1 k3_t207 k3_h104
theorem k3_t208_ok : ∀ (i : grid3.Coords) (v342 : BitVec 32) (v348 : BitVec 32) (k3_hw8 : k3_chk8 i v342 v348), ∀ (k3_h104 : k3_cond104 i v342 v348 = 1#1), (k3_t208_loop i v342 v348).OK := fun i v342 v348 k3_hw8 k3_h104 => k3_hw8.2.2.2.2.1 k3_h104
theorem k3_off831_inb : ∀ (i : grid3.Coords) (v342 : BitVec 32) (v348 : BitVec 32) (k3_hw8 : k3_chk8 i v342 v348) (k3_t208 : Fin (k3_t208_loop i v342 v348).trips), ∀ (k3_h104 : k3_cond104 i v342 v348 = 1#1), ∀ a, (k3_off831 i v342 v348 k3_t208) a + S1x16.size a ≤ S256x128.size a := fun i v342 v348 k3_hw8 k3_t208 k3_h104 => k3_hw8.2.2.2.2.2.1 k3_t208 k3_h104
theorem k3_off832_inb : ∀ (i : grid3.Coords) (v342 : BitVec 32) (v348 : BitVec 32) (k3_hw8 : k3_chk8 i v342 v348) (k3_t208 : Fin (k3_t208_loop i v342 v348).trips), ∀ (k3_h104 : k3_cond104 i v342 v348 = 1#1), ∀ a, (k3_off832 i v342 v348 k3_t208) a + S1x16.size a ≤ S256x128.size a := fun i v342 v348 k3_hw8 k3_t208 k3_h104 => k3_hw8.2.2.2.2.2.2.1 k3_t208 k3_h104
theorem k3_off833_inb : ∀ (i : grid3.Coords) (v342 : BitVec 32) (v348 : BitVec 32) (k3_hw8 : k3_chk8 i v342 v348) (k3_t208 : Fin (k3_t208_loop i v342 v348).trips), ∀ (k3_h104 : k3_cond104 i v342 v348 = 1#1), ∀ a, (k3_off833 i v342 v348 k3_t208) a + S1x16.size a ≤ S256x128.size a := fun i v342 v348 k3_hw8 k3_t208 k3_h104 => k3_hw8.2.2.2.2.2.2.2.1 k3_t208 k3_h104
theorem k3_off834_inb : ∀ (i : grid3.Coords) (v342 : BitVec 32) (v348 : BitVec 32) (k3_hw8 : k3_chk8 i v342 v348) (k3_t208 : Fin (k3_t208_loop i v342 v348).trips), ∀ (k3_h104 : k3_cond104 i v342 v348 = 1#1), ∀ a, (k3_off834 i v342 v348 k3_t208) a + S1x16.size a ≤ S256x128.size a := fun i v342 v348 k3_hw8 k3_t208 k3_h104 => k3_hw8.2.2.2.2.2.2.2.2 k3_t208 k3_h104

@[reducible] def k3_t209_loop (i : grid3.Coords) (v354 : BitVec 32) (v359 : BitVec 32) : Scf.Loop 32 :=
  let c256_i32_1021 : BitVec 32 := 256#32
  let c0_i32_1020 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let c256_i32_1024 : BitVec 32 := 256#32
  let c0_i32_1023 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c768_i32_1022 : BitVec 32 := 768#32
  let v1580 : BitVec 32 := Scalar.subi v362 c768_i32_1022
  let v1581 : BitVec 32 := Scalar.maxsi c0_i32_1023 v1580
  let v1582 : BitVec 32 := Scalar.minsi c256_i32_1024 v1581
  let v1805 : BitVec 32 := Scalar.subi v1582 v1579
  let c1_i32_1195 : BitVec 32 := 1#32
  let v1807 : BitVec 32 := Scalar.divsi v1805 c1_i32_1195
  let v1808 : BitVec 32 := Scalar.muli v1807 c1_i32_1195
  let v1809 : BitVec 32 := Scalar.addi v1579 v1808
  let c1_i32_1196 : BitVec 32 := 1#32
  ⟨v1579, v1809, c1_i32_1196⟩
def k3_cond105 (i : grid3.Coords) (v354 : BitVec 32) (v359 : BitVec 32) : BitVec 1 :=
  let c256_i32_1024 : BitVec 32 := 256#32
  let c0_i32_1023 : BitVec 32 := 0#32
  let c1024_i32_153 : BitVec 32 := 1024#32
  let c0_i32_152 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v360 : BitVec 32 := Scalar.subi v359 v3
  let v361 : BitVec 32 := Scalar.maxsi c0_i32_152 v360
  let v362 : BitVec 32 := Scalar.minsi c1024_i32_153 v361
  let c768_i32_1022 : BitVec 32 := 768#32
  let v1580 : BitVec 32 := Scalar.subi v362 c768_i32_1022
  let v1581 : BitVec 32 := Scalar.maxsi c0_i32_1023 v1580
  let v1582 : BitVec 32 := Scalar.minsi c256_i32_1024 v1581
  let c256_i32_1021 : BitVec 32 := 256#32
  let c0_i32_1020 : BitVec 32 := 0#32
  let c1024_i32_151 : BitVec 32 := 1024#32
  let c0_i32_150 : BitVec 32 := 0#32
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let v1583 : BitVec 1 := Scalar.cmpi .sgt v1582 v1579
  let v1584 : BitVec 32 := Scalar.extui v1583
  let c0_i32_1025 : BitVec 32 := 0#32
  let v1585 : BitVec 1 := Scalar.cmpi .ne v1584 c0_i32_1025
  v1585

def k3_off835 (i : grid3.Coords) (v354 : BitVec 32) (v359 : BitVec 32) (k3_t209 : Fin (k3_t209_loop i v354 v359).trips) : Fin 2 → Nat :=
  let c256_i32_1021 : BitVec 32 := 256#32
  let c0_i32_1020 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let c1_i32_1196 : BitVec 32 := 1#32
  let arg13 : BitVec 32 := Scf.iv v1579 c1_i32_1196 k3_t209
  let v1828 : Index := Scalar.indexCast arg13
  let c0_1206 : Index := 0#32
  ![v1828.toNat, 0]
def k3_off836 (i : grid3.Coords) (v354 : BitVec 32) (v359 : BitVec 32) (k3_t209 : Fin (k3_t209_loop i v354 v359).trips) : Fin 2 → Nat :=
  let c256_i32_1021 : BitVec 32 := 256#32
  let c0_i32_1020 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let c1_i32_1196 : BitVec 32 := 1#32
  let arg13 : BitVec 32 := Scf.iv v1579 c1_i32_1196 k3_t209
  let v1832 : Index := Scalar.indexCast arg13
  let c16_1207 : Index := 16#32
  ![v1832.toNat, 16]
def k3_off837 (i : grid3.Coords) (v354 : BitVec 32) (v359 : BitVec 32) (k3_t209 : Fin (k3_t209_loop i v354 v359).trips) : Fin 2 → Nat :=
  let c256_i32_1021 : BitVec 32 := 256#32
  let c0_i32_1020 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let c1_i32_1196 : BitVec 32 := 1#32
  let arg13 : BitVec 32 := Scf.iv v1579 c1_i32_1196 k3_t209
  let v1836 : Index := Scalar.indexCast arg13
  let c32_1208 : Index := 32#32
  ![v1836.toNat, 32]
def k3_off838 (i : grid3.Coords) (v354 : BitVec 32) (v359 : BitVec 32) (k3_t209 : Fin (k3_t209_loop i v354 v359).trips) : Fin 2 → Nat :=
  let c256_i32_1021 : BitVec 32 := 256#32
  let c0_i32_1020 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let c1_i32_1196 : BitVec 32 := 1#32
  let arg13 : BitVec 32 := Scf.iv v1579 c1_i32_1196 k3_t209
  let v1840 : Index := Scalar.indexCast arg13
  let c48_1209 : Index := 48#32
  ![v1840.toNat, 48]
@[reducible] def k3_t210_loop (i : grid3.Coords) (v354 : BitVec 32) (v359 : BitVec 32) : Scf.Loop 32 :=
  let c256_i32_1021 : BitVec 32 := 256#32
  let c0_i32_1020 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let c256_i32_1024 : BitVec 32 := 256#32
  let c0_i32_1023 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c768_i32_1022 : BitVec 32 := 768#32
  let v1580 : BitVec 32 := Scalar.subi v362 c768_i32_1022
  let v1581 : BitVec 32 := Scalar.maxsi c0_i32_1023 v1580
  let v1582 : BitVec 32 := Scalar.minsi c256_i32_1024 v1581
  let v1805 : BitVec 32 := Scalar.subi v1582 v1579
  let c1_i32_1195 : BitVec 32 := 1#32
  let v1807 : BitVec 32 := Scalar.divsi v1805 c1_i32_1195
  let v1808 : BitVec 32 := Scalar.muli v1807 c1_i32_1195
  let v1809 : BitVec 32 := Scalar.addi v1579 v1808
  let v1806 : BitVec 32 := Scalar.addi v1579 v1805
  let c1_i32_1197 : BitVec 32 := 1#32
  ⟨v1809, v1806, c1_i32_1197⟩
def k3_off839 (i : grid3.Coords) (v354 : BitVec 32) (v359 : BitVec 32) (k3_t210 : Fin (k3_t210_loop i v354 v359).trips) : Fin 2 → Nat :=
  let c256_i32_1021 : BitVec 32 := 256#32
  let c0_i32_1020 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let c256_i32_1024 : BitVec 32 := 256#32
  let c0_i32_1023 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c768_i32_1022 : BitVec 32 := 768#32
  let v1580 : BitVec 32 := Scalar.subi v362 c768_i32_1022
  let v1581 : BitVec 32 := Scalar.maxsi c0_i32_1023 v1580
  let v1582 : BitVec 32 := Scalar.minsi c256_i32_1024 v1581
  let v1805 : BitVec 32 := Scalar.subi v1582 v1579
  let c1_i32_1195 : BitVec 32 := 1#32
  let v1807 : BitVec 32 := Scalar.divsi v1805 c1_i32_1195
  let v1808 : BitVec 32 := Scalar.muli v1807 c1_i32_1195
  let v1809 : BitVec 32 := Scalar.addi v1579 v1808
  let c1_i32_1197 : BitVec 32 := 1#32
  let arg13 : BitVec 32 := Scf.iv v1809 c1_i32_1197 k3_t210
  let v1828 : Index := Scalar.indexCast arg13
  let c0_1206 : Index := 0#32
  ![v1828.toNat, 0]
def k3_off840 (i : grid3.Coords) (v354 : BitVec 32) (v359 : BitVec 32) (k3_t210 : Fin (k3_t210_loop i v354 v359).trips) : Fin 2 → Nat :=
  let c256_i32_1021 : BitVec 32 := 256#32
  let c0_i32_1020 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let c256_i32_1024 : BitVec 32 := 256#32
  let c0_i32_1023 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c768_i32_1022 : BitVec 32 := 768#32
  let v1580 : BitVec 32 := Scalar.subi v362 c768_i32_1022
  let v1581 : BitVec 32 := Scalar.maxsi c0_i32_1023 v1580
  let v1582 : BitVec 32 := Scalar.minsi c256_i32_1024 v1581
  let v1805 : BitVec 32 := Scalar.subi v1582 v1579
  let c1_i32_1195 : BitVec 32 := 1#32
  let v1807 : BitVec 32 := Scalar.divsi v1805 c1_i32_1195
  let v1808 : BitVec 32 := Scalar.muli v1807 c1_i32_1195
  let v1809 : BitVec 32 := Scalar.addi v1579 v1808
  let c1_i32_1197 : BitVec 32 := 1#32
  let arg13 : BitVec 32 := Scf.iv v1809 c1_i32_1197 k3_t210
  let v1832 : Index := Scalar.indexCast arg13
  let c16_1207 : Index := 16#32
  ![v1832.toNat, 16]
def k3_off841 (i : grid3.Coords) (v354 : BitVec 32) (v359 : BitVec 32) (k3_t210 : Fin (k3_t210_loop i v354 v359).trips) : Fin 2 → Nat :=
  let c256_i32_1021 : BitVec 32 := 256#32
  let c0_i32_1020 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let c256_i32_1024 : BitVec 32 := 256#32
  let c0_i32_1023 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c768_i32_1022 : BitVec 32 := 768#32
  let v1580 : BitVec 32 := Scalar.subi v362 c768_i32_1022
  let v1581 : BitVec 32 := Scalar.maxsi c0_i32_1023 v1580
  let v1582 : BitVec 32 := Scalar.minsi c256_i32_1024 v1581
  let v1805 : BitVec 32 := Scalar.subi v1582 v1579
  let c1_i32_1195 : BitVec 32 := 1#32
  let v1807 : BitVec 32 := Scalar.divsi v1805 c1_i32_1195
  let v1808 : BitVec 32 := Scalar.muli v1807 c1_i32_1195
  let v1809 : BitVec 32 := Scalar.addi v1579 v1808
  let c1_i32_1197 : BitVec 32 := 1#32
  let arg13 : BitVec 32 := Scf.iv v1809 c1_i32_1197 k3_t210
  let v1836 : Index := Scalar.indexCast arg13
  let c32_1208 : Index := 32#32
  ![v1836.toNat, 32]
def k3_off842 (i : grid3.Coords) (v354 : BitVec 32) (v359 : BitVec 32) (k3_t210 : Fin (k3_t210_loop i v354 v359).trips) : Fin 2 → Nat :=
  let c256_i32_1021 : BitVec 32 := 256#32
  let c0_i32_1020 : BitVec 32 := 0#32
  let c1024_i32_151 : BitVec 32 := 1024#32
  let c0_i32_150 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v355 : BitVec 32 := Scalar.subi v354 v3
  let v356 : BitVec 32 := Scalar.maxsi c0_i32_150 v355
  let v357 : BitVec 32 := Scalar.minsi c1024_i32_151 v356
  let c768_i32_1019 : BitVec 32 := 768#32
  let v1577 : BitVec 32 := Scalar.subi v357 c768_i32_1019
  let v1578 : BitVec 32 := Scalar.maxsi c0_i32_1020 v1577
  let v1579 : BitVec 32 := Scalar.minsi c256_i32_1021 v1578
  let c256_i32_1024 : BitVec 32 := 256#32
  let c0_i32_1023 : BitVec 32 := 0#32
  let c1024_i32_153 : BitVec 32 := 1024#32
  let c0_i32_152 : BitVec 32 := 0#32
  let v360 : BitVec 32 := Scalar.subi v359 v3
  let v361 : BitVec 32 := Scalar.maxsi c0_i32_152 v360
  let v362 : BitVec 32 := Scalar.minsi c1024_i32_153 v361
  let c768_i32_1022 : BitVec 32 := 768#32
  let v1580 : BitVec 32 := Scalar.subi v362 c768_i32_1022
  let v1581 : BitVec 32 := Scalar.maxsi c0_i32_1023 v1580
  let v1582 : BitVec 32 := Scalar.minsi c256_i32_1024 v1581
  let v1805 : BitVec 32 := Scalar.subi v1582 v1579
  let c1_i32_1195 : BitVec 32 := 1#32
  let v1807 : BitVec 32 := Scalar.divsi v1805 c1_i32_1195
  let v1808 : BitVec 32 := Scalar.muli v1807 c1_i32_1195
  let v1809 : BitVec 32 := Scalar.addi v1579 v1808
  let c1_i32_1197 : BitVec 32 := 1#32
  let arg13 : BitVec 32 := Scf.iv v1809 c1_i32_1197 k3_t210
  let v1840 : Index := Scalar.indexCast arg13
  let c48_1209 : Index := 48#32
  ![v1840.toNat, 48]

def k3_chk9_0 (i : grid3.Coords) (v354 : BitVec 32) (v359 : BitVec 32) : Prop :=
  (∀ (k3_h9 : k3_cond9 i v354 v359 = 1#1), (k3_t17_loop i v354 v359).OK) ∧
  (∀ k3_t17 : Fin (k3_t17_loop i v354 v359).trips, ∀ (k3_h9 : k3_cond9 i v354 v359 = 1#1), ∀ a, (k3_off66 i v354 v359 k3_t17) a + S1x16.size a ≤ S256x128.size a) ∧
  (∀ k3_t17 : Fin (k3_t17_loop i v354 v359).trips, ∀ (k3_h9 : k3_cond9 i v354 v359 = 1#1), ∀ a, (k3_off67 i v354 v359 k3_t17) a + S1x16.size a ≤ S256x128.size a) ∧
  (∀ k3_t17 : Fin (k3_t17_loop i v354 v359).trips, ∀ (k3_h9 : k3_cond9 i v354 v359 = 1#1), ∀ a, (k3_off68 i v354 v359 k3_t17) a + S1x16.size a ≤ S256x128.size a) ∧
  (∀ k3_t17 : Fin (k3_t17_loop i v354 v359).trips, ∀ (k3_h9 : k3_cond9 i v354 v359 = 1#1), ∀ a, (k3_off69 i v354 v359 k3_t17) a + S1x16.size a ≤ S256x128.size a) ∧
  (∀ (k3_h9 : k3_cond9 i v354 v359 = 1#1), (k3_t18_loop i v354 v359).OK) ∧
  (∀ k3_t18 : Fin (k3_t18_loop i v354 v359).trips, ∀ (k3_h9 : k3_cond9 i v354 v359 = 1#1), ∀ a, (k3_off70 i v354 v359 k3_t18) a + S1x16.size a ≤ S256x128.size a) ∧
  (∀ k3_t18 : Fin (k3_t18_loop i v354 v359).trips, ∀ (k3_h9 : k3_cond9 i v354 v359 = 1#1), ∀ a, (k3_off71 i v354 v359 k3_t18) a + S1x16.size a ≤ S256x128.size a) ∧
  (∀ k3_t18 : Fin (k3_t18_loop i v354 v359).trips, ∀ (k3_h9 : k3_cond9 i v354 v359 = 1#1), ∀ a, (k3_off72 i v354 v359 k3_t18) a + S1x16.size a ≤ S256x128.size a) ∧
  (∀ k3_t18 : Fin (k3_t18_loop i v354 v359).trips, ∀ (k3_h9 : k3_cond9 i v354 v359 = 1#1), ∀ a, (k3_off73 i v354 v359 k3_t18) a + S1x16.size a ≤ S256x128.size a) ∧
  (∀ (k3_h41 : k3_cond41 i v354 v359 = 1#1), (k3_t81_loop i v354 v359).OK) ∧
  (∀ k3_t81 : Fin (k3_t81_loop i v354 v359).trips, ∀ (k3_h41 : k3_cond41 i v354 v359 = 1#1), ∀ a, (k3_off323 i v354 v359 k3_t81) a + S1x16.size a ≤ S256x128.size a) ∧
  (∀ k3_t81 : Fin (k3_t81_loop i v354 v359).trips, ∀ (k3_h41 : k3_cond41 i v354 v359 = 1#1), ∀ a, (k3_off324 i v354 v359 k3_t81) a + S1x16.size a ≤ S256x128.size a) ∧
  (∀ k3_t81 : Fin (k3_t81_loop i v354 v359).trips, ∀ (k3_h41 : k3_cond41 i v354 v359 = 1#1), ∀ a, (k3_off325 i v354 v359 k3_t81) a + S1x16.size a ≤ S256x128.size a) ∧
  (∀ k3_t81 : Fin (k3_t81_loop i v354 v359).trips, ∀ (k3_h41 : k3_cond41 i v354 v359 = 1#1), ∀ a, (k3_off326 i v354 v359 k3_t81) a + S1x16.size a ≤ S256x128.size a) ∧
  (∀ (k3_h41 : k3_cond41 i v354 v359 = 1#1), (k3_t82_loop i v354 v359).OK) ∧
  (∀ k3_t82 : Fin (k3_t82_loop i v354 v359).trips, ∀ (k3_h41 : k3_cond41 i v354 v359 = 1#1), ∀ a, (k3_off327 i v354 v359 k3_t82) a + S1x16.size a ≤ S256x128.size a) ∧
  (∀ k3_t82 : Fin (k3_t82_loop i v354 v359).trips, ∀ (k3_h41 : k3_cond41 i v354 v359 = 1#1), ∀ a, (k3_off328 i v354 v359 k3_t82) a + S1x16.size a ≤ S256x128.size a) ∧
  (∀ k3_t82 : Fin (k3_t82_loop i v354 v359).trips, ∀ (k3_h41 : k3_cond41 i v354 v359 = 1#1), ∀ a, (k3_off329 i v354 v359 k3_t82) a + S1x16.size a ≤ S256x128.size a) ∧
  (∀ k3_t82 : Fin (k3_t82_loop i v354 v359).trips, ∀ (k3_h41 : k3_cond41 i v354 v359 = 1#1), ∀ a, (k3_off330 i v354 v359 k3_t82) a + S1x16.size a ≤ S256x128.size a) ∧
  (∀ (k3_h73 : k3_cond73 i v354 v359 = 1#1), (k3_t145_loop i v354 v359).OK) ∧
  (∀ k3_t145 : Fin (k3_t145_loop i v354 v359).trips, ∀ (k3_h73 : k3_cond73 i v354 v359 = 1#1), ∀ a, (k3_off579 i v354 v359 k3_t145) a + S1x16.size a ≤ S256x128.size a) ∧
  (∀ k3_t145 : Fin (k3_t145_loop i v354 v359).trips, ∀ (k3_h73 : k3_cond73 i v354 v359 = 1#1), ∀ a, (k3_off580 i v354 v359 k3_t145) a + S1x16.size a ≤ S256x128.size a) ∧
  (∀ k3_t145 : Fin (k3_t145_loop i v354 v359).trips, ∀ (k3_h73 : k3_cond73 i v354 v359 = 1#1), ∀ a, (k3_off581 i v354 v359 k3_t145) a + S1x16.size a ≤ S256x128.size a) ∧
  (∀ k3_t145 : Fin (k3_t145_loop i v354 v359).trips, ∀ (k3_h73 : k3_cond73 i v354 v359 = 1#1), ∀ a, (k3_off582 i v354 v359 k3_t145) a + S1x16.size a ≤ S256x128.size a) ∧
  (∀ (k3_h73 : k3_cond73 i v354 v359 = 1#1), (k3_t146_loop i v354 v359).OK) ∧
  (∀ k3_t146 : Fin (k3_t146_loop i v354 v359).trips, ∀ (k3_h73 : k3_cond73 i v354 v359 = 1#1), ∀ a, (k3_off583 i v354 v359 k3_t146) a + S1x16.size a ≤ S256x128.size a) ∧
  (∀ k3_t146 : Fin (k3_t146_loop i v354 v359).trips, ∀ (k3_h73 : k3_cond73 i v354 v359 = 1#1), ∀ a, (k3_off584 i v354 v359 k3_t146) a + S1x16.size a ≤ S256x128.size a) ∧
  (∀ k3_t146 : Fin (k3_t146_loop i v354 v359).trips, ∀ (k3_h73 : k3_cond73 i v354 v359 = 1#1), ∀ a, (k3_off585 i v354 v359 k3_t146) a + S1x16.size a ≤ S256x128.size a) ∧
  (∀ k3_t146 : Fin (k3_t146_loop i v354 v359).trips, ∀ (k3_h73 : k3_cond73 i v354 v359 = 1#1), ∀ a, (k3_off586 i v354 v359 k3_t146) a + S1x16.size a ≤ S256x128.size a) ∧
  (∀ (k3_h105 : k3_cond105 i v354 v359 = 1#1), (k3_t209_loop i v354 v359).OK) ∧
  (∀ k3_t209 : Fin (k3_t209_loop i v354 v359).trips, ∀ (k3_h105 : k3_cond105 i v354 v359 = 1#1), ∀ a, (k3_off835 i v354 v359 k3_t209) a + S1x16.size a ≤ S256x128.size a)
def k3_chk9_1 (i : grid3.Coords) (v354 : BitVec 32) (v359 : BitVec 32) : Prop :=
  (∀ k3_t209 : Fin (k3_t209_loop i v354 v359).trips, ∀ (k3_h105 : k3_cond105 i v354 v359 = 1#1), ∀ a, (k3_off836 i v354 v359 k3_t209) a + S1x16.size a ≤ S256x128.size a) ∧
  (∀ k3_t209 : Fin (k3_t209_loop i v354 v359).trips, ∀ (k3_h105 : k3_cond105 i v354 v359 = 1#1), ∀ a, (k3_off837 i v354 v359 k3_t209) a + S1x16.size a ≤ S256x128.size a) ∧
  (∀ k3_t209 : Fin (k3_t209_loop i v354 v359).trips, ∀ (k3_h105 : k3_cond105 i v354 v359 = 1#1), ∀ a, (k3_off838 i v354 v359 k3_t209) a + S1x16.size a ≤ S256x128.size a) ∧
  (∀ (k3_h105 : k3_cond105 i v354 v359 = 1#1), (k3_t210_loop i v354 v359).OK) ∧
  (∀ k3_t210 : Fin (k3_t210_loop i v354 v359).trips, ∀ (k3_h105 : k3_cond105 i v354 v359 = 1#1), ∀ a, (k3_off839 i v354 v359 k3_t210) a + S1x16.size a ≤ S256x128.size a) ∧
  (∀ k3_t210 : Fin (k3_t210_loop i v354 v359).trips, ∀ (k3_h105 : k3_cond105 i v354 v359 = 1#1), ∀ a, (k3_off840 i v354 v359 k3_t210) a + S1x16.size a ≤ S256x128.size a) ∧
  (∀ k3_t210 : Fin (k3_t210_loop i v354 v359).trips, ∀ (k3_h105 : k3_cond105 i v354 v359 = 1#1), ∀ a, (k3_off841 i v354 v359 k3_t210) a + S1x16.size a ≤ S256x128.size a) ∧
  (∀ k3_t210 : Fin (k3_t210_loop i v354 v359).trips, ∀ (k3_h105 : k3_cond105 i v354 v359 = 1#1), ∀ a, (k3_off842 i v354 v359 k3_t210) a + S1x16.size a ≤ S256x128.size a)
def k3_chk9 (i : grid3.Coords) (v354 : BitVec 32) (v359 : BitVec 32) : Prop :=
  k3_chk9_0 i v354 v359 ∧
  k3_chk9_1 i v354 v359
theorem k3_t17_ok : ∀ (i : grid3.Coords) (v354 : BitVec 32) (v359 : BitVec 32) (k3_hw9 : k3_chk9 i v354 v359), ∀ (k3_h9 : k3_cond9 i v354 v359 = 1#1), (k3_t17_loop i v354 v359).OK := fun i v354 v359 k3_hw9 k3_h9 => k3_hw9.1.1 k3_h9
theorem k3_off66_inb : ∀ (i : grid3.Coords) (v354 : BitVec 32) (v359 : BitVec 32) (k3_hw9 : k3_chk9 i v354 v359) (k3_t17 : Fin (k3_t17_loop i v354 v359).trips), ∀ (k3_h9 : k3_cond9 i v354 v359 = 1#1), ∀ a, (k3_off66 i v354 v359 k3_t17) a + S1x16.size a ≤ S256x128.size a := fun i v354 v359 k3_hw9 k3_t17 k3_h9 => k3_hw9.1.2.1 k3_t17 k3_h9
theorem k3_off67_inb : ∀ (i : grid3.Coords) (v354 : BitVec 32) (v359 : BitVec 32) (k3_hw9 : k3_chk9 i v354 v359) (k3_t17 : Fin (k3_t17_loop i v354 v359).trips), ∀ (k3_h9 : k3_cond9 i v354 v359 = 1#1), ∀ a, (k3_off67 i v354 v359 k3_t17) a + S1x16.size a ≤ S256x128.size a := fun i v354 v359 k3_hw9 k3_t17 k3_h9 => k3_hw9.1.2.2.1 k3_t17 k3_h9
theorem k3_off68_inb : ∀ (i : grid3.Coords) (v354 : BitVec 32) (v359 : BitVec 32) (k3_hw9 : k3_chk9 i v354 v359) (k3_t17 : Fin (k3_t17_loop i v354 v359).trips), ∀ (k3_h9 : k3_cond9 i v354 v359 = 1#1), ∀ a, (k3_off68 i v354 v359 k3_t17) a + S1x16.size a ≤ S256x128.size a := fun i v354 v359 k3_hw9 k3_t17 k3_h9 => k3_hw9.1.2.2.2.1 k3_t17 k3_h9
theorem k3_off69_inb : ∀ (i : grid3.Coords) (v354 : BitVec 32) (v359 : BitVec 32) (k3_hw9 : k3_chk9 i v354 v359) (k3_t17 : Fin (k3_t17_loop i v354 v359).trips), ∀ (k3_h9 : k3_cond9 i v354 v359 = 1#1), ∀ a, (k3_off69 i v354 v359 k3_t17) a + S1x16.size a ≤ S256x128.size a := fun i v354 v359 k3_hw9 k3_t17 k3_h9 => k3_hw9.1.2.2.2.2.1 k3_t17 k3_h9
theorem k3_t18_ok : ∀ (i : grid3.Coords) (v354 : BitVec 32) (v359 : BitVec 32) (k3_hw9 : k3_chk9 i v354 v359), ∀ (k3_h9 : k3_cond9 i v354 v359 = 1#1), (k3_t18_loop i v354 v359).OK := fun i v354 v359 k3_hw9 k3_h9 => k3_hw9.1.2.2.2.2.2.1 k3_h9
theorem k3_off70_inb : ∀ (i : grid3.Coords) (v354 : BitVec 32) (v359 : BitVec 32) (k3_hw9 : k3_chk9 i v354 v359) (k3_t18 : Fin (k3_t18_loop i v354 v359).trips), ∀ (k3_h9 : k3_cond9 i v354 v359 = 1#1), ∀ a, (k3_off70 i v354 v359 k3_t18) a + S1x16.size a ≤ S256x128.size a := fun i v354 v359 k3_hw9 k3_t18 k3_h9 => k3_hw9.1.2.2.2.2.2.2.1 k3_t18 k3_h9
theorem k3_off71_inb : ∀ (i : grid3.Coords) (v354 : BitVec 32) (v359 : BitVec 32) (k3_hw9 : k3_chk9 i v354 v359) (k3_t18 : Fin (k3_t18_loop i v354 v359).trips), ∀ (k3_h9 : k3_cond9 i v354 v359 = 1#1), ∀ a, (k3_off71 i v354 v359 k3_t18) a + S1x16.size a ≤ S256x128.size a := fun i v354 v359 k3_hw9 k3_t18 k3_h9 => k3_hw9.1.2.2.2.2.2.2.2.1 k3_t18 k3_h9
theorem k3_off72_inb : ∀ (i : grid3.Coords) (v354 : BitVec 32) (v359 : BitVec 32) (k3_hw9 : k3_chk9 i v354 v359) (k3_t18 : Fin (k3_t18_loop i v354 v359).trips), ∀ (k3_h9 : k3_cond9 i v354 v359 = 1#1), ∀ a, (k3_off72 i v354 v359 k3_t18) a + S1x16.size a ≤ S256x128.size a := fun i v354 v359 k3_hw9 k3_t18 k3_h9 => k3_hw9.1.2.2.2.2.2.2.2.2.1 k3_t18 k3_h9
theorem k3_off73_inb : ∀ (i : grid3.Coords) (v354 : BitVec 32) (v359 : BitVec 32) (k3_hw9 : k3_chk9 i v354 v359) (k3_t18 : Fin (k3_t18_loop i v354 v359).trips), ∀ (k3_h9 : k3_cond9 i v354 v359 = 1#1), ∀ a, (k3_off73 i v354 v359 k3_t18) a + S1x16.size a ≤ S256x128.size a := fun i v354 v359 k3_hw9 k3_t18 k3_h9 => k3_hw9.1.2.2.2.2.2.2.2.2.2.1 k3_t18 k3_h9
theorem k3_t81_ok : ∀ (i : grid3.Coords) (v354 : BitVec 32) (v359 : BitVec 32) (k3_hw9 : k3_chk9 i v354 v359), ∀ (k3_h41 : k3_cond41 i v354 v359 = 1#1), (k3_t81_loop i v354 v359).OK := fun i v354 v359 k3_hw9 k3_h41 => k3_hw9.1.2.2.2.2.2.2.2.2.2.2.1 k3_h41
theorem k3_off323_inb : ∀ (i : grid3.Coords) (v354 : BitVec 32) (v359 : BitVec 32) (k3_hw9 : k3_chk9 i v354 v359) (k3_t81 : Fin (k3_t81_loop i v354 v359).trips), ∀ (k3_h41 : k3_cond41 i v354 v359 = 1#1), ∀ a, (k3_off323 i v354 v359 k3_t81) a + S1x16.size a ≤ S256x128.size a := fun i v354 v359 k3_hw9 k3_t81 k3_h41 => k3_hw9.1.2.2.2.2.2.2.2.2.2.2.2.1 k3_t81 k3_h41
theorem k3_off324_inb : ∀ (i : grid3.Coords) (v354 : BitVec 32) (v359 : BitVec 32) (k3_hw9 : k3_chk9 i v354 v359) (k3_t81 : Fin (k3_t81_loop i v354 v359).trips), ∀ (k3_h41 : k3_cond41 i v354 v359 = 1#1), ∀ a, (k3_off324 i v354 v359 k3_t81) a + S1x16.size a ≤ S256x128.size a := fun i v354 v359 k3_hw9 k3_t81 k3_h41 => k3_hw9.1.2.2.2.2.2.2.2.2.2.2.2.2.1 k3_t81 k3_h41
theorem k3_off325_inb : ∀ (i : grid3.Coords) (v354 : BitVec 32) (v359 : BitVec 32) (k3_hw9 : k3_chk9 i v354 v359) (k3_t81 : Fin (k3_t81_loop i v354 v359).trips), ∀ (k3_h41 : k3_cond41 i v354 v359 = 1#1), ∀ a, (k3_off325 i v354 v359 k3_t81) a + S1x16.size a ≤ S256x128.size a := fun i v354 v359 k3_hw9 k3_t81 k3_h41 => k3_hw9.1.2.2.2.2.2.2.2.2.2.2.2.2.2.1 k3_t81 k3_h41
theorem k3_off326_inb : ∀ (i : grid3.Coords) (v354 : BitVec 32) (v359 : BitVec 32) (k3_hw9 : k3_chk9 i v354 v359) (k3_t81 : Fin (k3_t81_loop i v354 v359).trips), ∀ (k3_h41 : k3_cond41 i v354 v359 = 1#1), ∀ a, (k3_off326 i v354 v359 k3_t81) a + S1x16.size a ≤ S256x128.size a := fun i v354 v359 k3_hw9 k3_t81 k3_h41 => k3_hw9.1.2.2.2.2.2.2.2.2.2.2.2.2.2.2.1 k3_t81 k3_h41
theorem k3_t82_ok : ∀ (i : grid3.Coords) (v354 : BitVec 32) (v359 : BitVec 32) (k3_hw9 : k3_chk9 i v354 v359), ∀ (k3_h41 : k3_cond41 i v354 v359 = 1#1), (k3_t82_loop i v354 v359).OK := fun i v354 v359 k3_hw9 k3_h41 => k3_hw9.1.2.2.2.2.2.2.2.2.2.2.2.2.2.2.2.1 k3_h41
theorem k3_off327_inb : ∀ (i : grid3.Coords) (v354 : BitVec 32) (v359 : BitVec 32) (k3_hw9 : k3_chk9 i v354 v359) (k3_t82 : Fin (k3_t82_loop i v354 v359).trips), ∀ (k3_h41 : k3_cond41 i v354 v359 = 1#1), ∀ a, (k3_off327 i v354 v359 k3_t82) a + S1x16.size a ≤ S256x128.size a := fun i v354 v359 k3_hw9 k3_t82 k3_h41 => k3_hw9.1.2.2.2.2.2.2.2.2.2.2.2.2.2.2.2.2.1 k3_t82 k3_h41
theorem k3_off328_inb : ∀ (i : grid3.Coords) (v354 : BitVec 32) (v359 : BitVec 32) (k3_hw9 : k3_chk9 i v354 v359) (k3_t82 : Fin (k3_t82_loop i v354 v359).trips), ∀ (k3_h41 : k3_cond41 i v354 v359 = 1#1), ∀ a, (k3_off328 i v354 v359 k3_t82) a + S1x16.size a ≤ S256x128.size a := fun i v354 v359 k3_hw9 k3_t82 k3_h41 => k3_hw9.1.2.2.2.2.2.2.2.2.2.2.2.2.2.2.2.2.2.1 k3_t82 k3_h41
theorem k3_off329_inb : ∀ (i : grid3.Coords) (v354 : BitVec 32) (v359 : BitVec 32) (k3_hw9 : k3_chk9 i v354 v359) (k3_t82 : Fin (k3_t82_loop i v354 v359).trips), ∀ (k3_h41 : k3_cond41 i v354 v359 = 1#1), ∀ a, (k3_off329 i v354 v359 k3_t82) a + S1x16.size a ≤ S256x128.size a := fun i v354 v359 k3_hw9 k3_t82 k3_h41 => k3_hw9.1.2.2.2.2.2.2.2.2.2.2.2.2.2.2.2.2.2.2.1 k3_t82 k3_h41
theorem k3_off330_inb : ∀ (i : grid3.Coords) (v354 : BitVec 32) (v359 : BitVec 32) (k3_hw9 : k3_chk9 i v354 v359) (k3_t82 : Fin (k3_t82_loop i v354 v359).trips), ∀ (k3_h41 : k3_cond41 i v354 v359 = 1#1), ∀ a, (k3_off330 i v354 v359 k3_t82) a + S1x16.size a ≤ S256x128.size a := fun i v354 v359 k3_hw9 k3_t82 k3_h41 => k3_hw9.1.2.2.2.2.2.2.2.2.2.2.2.2.2.2.2.2.2.2.2.1 k3_t82 k3_h41
theorem k3_t145_ok : ∀ (i : grid3.Coords) (v354 : BitVec 32) (v359 : BitVec 32) (k3_hw9 : k3_chk9 i v354 v359), ∀ (k3_h73 : k3_cond73 i v354 v359 = 1#1), (k3_t145_loop i v354 v359).OK := fun i v354 v359 k3_hw9 k3_h73 => k3_hw9.1.2.2.2.2.2.2.2.2.2.2.2.2.2.2.2.2.2.2.2.2.1 k3_h73
theorem k3_off579_inb : ∀ (i : grid3.Coords) (v354 : BitVec 32) (v359 : BitVec 32) (k3_hw9 : k3_chk9 i v354 v359) (k3_t145 : Fin (k3_t145_loop i v354 v359).trips), ∀ (k3_h73 : k3_cond73 i v354 v359 = 1#1), ∀ a, (k3_off579 i v354 v359 k3_t145) a + S1x16.size a ≤ S256x128.size a := fun i v354 v359 k3_hw9 k3_t145 k3_h73 => k3_hw9.1.2.2.2.2.2.2.2.2.2.2.2.2.2.2.2.2.2.2.2.2.2.1 k3_t145 k3_h73
theorem k3_off580_inb : ∀ (i : grid3.Coords) (v354 : BitVec 32) (v359 : BitVec 32) (k3_hw9 : k3_chk9 i v354 v359) (k3_t145 : Fin (k3_t145_loop i v354 v359).trips), ∀ (k3_h73 : k3_cond73 i v354 v359 = 1#1), ∀ a, (k3_off580 i v354 v359 k3_t145) a + S1x16.size a ≤ S256x128.size a := fun i v354 v359 k3_hw9 k3_t145 k3_h73 => k3_hw9.1.2.2.2.2.2.2.2.2.2.2.2.2.2.2.2.2.2.2.2.2.2.2.1 k3_t145 k3_h73
theorem k3_off581_inb : ∀ (i : grid3.Coords) (v354 : BitVec 32) (v359 : BitVec 32) (k3_hw9 : k3_chk9 i v354 v359) (k3_t145 : Fin (k3_t145_loop i v354 v359).trips), ∀ (k3_h73 : k3_cond73 i v354 v359 = 1#1), ∀ a, (k3_off581 i v354 v359 k3_t145) a + S1x16.size a ≤ S256x128.size a := fun i v354 v359 k3_hw9 k3_t145 k3_h73 => k3_hw9.1.2.2.2.2.2.2.2.2.2.2.2.2.2.2.2.2.2.2.2.2.2.2.2.1 k3_t145 k3_h73
theorem k3_off582_inb : ∀ (i : grid3.Coords) (v354 : BitVec 32) (v359 : BitVec 32) (k3_hw9 : k3_chk9 i v354 v359) (k3_t145 : Fin (k3_t145_loop i v354 v359).trips), ∀ (k3_h73 : k3_cond73 i v354 v359 = 1#1), ∀ a, (k3_off582 i v354 v359 k3_t145) a + S1x16.size a ≤ S256x128.size a := fun i v354 v359 k3_hw9 k3_t145 k3_h73 => k3_hw9.1.2.2.2.2.2.2.2.2.2.2.2.2.2.2.2.2.2.2.2.2.2.2.2.2.1 k3_t145 k3_h73
theorem k3_t146_ok : ∀ (i : grid3.Coords) (v354 : BitVec 32) (v359 : BitVec 32) (k3_hw9 : k3_chk9 i v354 v359), ∀ (k3_h73 : k3_cond73 i v354 v359 = 1#1), (k3_t146_loop i v354 v359).OK := fun i v354 v359 k3_hw9 k3_h73 => k3_hw9.1.2.2.2.2.2.2.2.2.2.2.2.2.2.2.2.2.2.2.2.2.2.2.2.2.2.1 k3_h73
theorem k3_off583_inb : ∀ (i : grid3.Coords) (v354 : BitVec 32) (v359 : BitVec 32) (k3_hw9 : k3_chk9 i v354 v359) (k3_t146 : Fin (k3_t146_loop i v354 v359).trips), ∀ (k3_h73 : k3_cond73 i v354 v359 = 1#1), ∀ a, (k3_off583 i v354 v359 k3_t146) a + S1x16.size a ≤ S256x128.size a := fun i v354 v359 k3_hw9 k3_t146 k3_h73 => k3_hw9.1.2.2.2.2.2.2.2.2.2.2.2.2.2.2.2.2.2.2.2.2.2.2.2.2.2.2.1 k3_t146 k3_h73
theorem k3_off584_inb : ∀ (i : grid3.Coords) (v354 : BitVec 32) (v359 : BitVec 32) (k3_hw9 : k3_chk9 i v354 v359) (k3_t146 : Fin (k3_t146_loop i v354 v359).trips), ∀ (k3_h73 : k3_cond73 i v354 v359 = 1#1), ∀ a, (k3_off584 i v354 v359 k3_t146) a + S1x16.size a ≤ S256x128.size a := fun i v354 v359 k3_hw9 k3_t146 k3_h73 => k3_hw9.1.2.2.2.2.2.2.2.2.2.2.2.2.2.2.2.2.2.2.2.2.2.2.2.2.2.2.2.1 k3_t146 k3_h73
theorem k3_off585_inb : ∀ (i : grid3.Coords) (v354 : BitVec 32) (v359 : BitVec 32) (k3_hw9 : k3_chk9 i v354 v359) (k3_t146 : Fin (k3_t146_loop i v354 v359).trips), ∀ (k3_h73 : k3_cond73 i v354 v359 = 1#1), ∀ a, (k3_off585 i v354 v359 k3_t146) a + S1x16.size a ≤ S256x128.size a := fun i v354 v359 k3_hw9 k3_t146 k3_h73 => k3_hw9.1.2.2.2.2.2.2.2.2.2.2.2.2.2.2.2.2.2.2.2.2.2.2.2.2.2.2.2.2.1 k3_t146 k3_h73
theorem k3_off586_inb : ∀ (i : grid3.Coords) (v354 : BitVec 32) (v359 : BitVec 32) (k3_hw9 : k3_chk9 i v354 v359) (k3_t146 : Fin (k3_t146_loop i v354 v359).trips), ∀ (k3_h73 : k3_cond73 i v354 v359 = 1#1), ∀ a, (k3_off586 i v354 v359 k3_t146) a + S1x16.size a ≤ S256x128.size a := fun i v354 v359 k3_hw9 k3_t146 k3_h73 => k3_hw9.1.2.2.2.2.2.2.2.2.2.2.2.2.2.2.2.2.2.2.2.2.2.2.2.2.2.2.2.2.2.1 k3_t146 k3_h73
theorem k3_t209_ok : ∀ (i : grid3.Coords) (v354 : BitVec 32) (v359 : BitVec 32) (k3_hw9 : k3_chk9 i v354 v359), ∀ (k3_h105 : k3_cond105 i v354 v359 = 1#1), (k3_t209_loop i v354 v359).OK := fun i v354 v359 k3_hw9 k3_h105 => k3_hw9.1.2.2.2.2.2.2.2.2.2.2.2.2.2.2.2.2.2.2.2.2.2.2.2.2.2.2.2.2.2.2.1 k3_h105
theorem k3_off835_inb : ∀ (i : grid3.Coords) (v354 : BitVec 32) (v359 : BitVec 32) (k3_hw9 : k3_chk9 i v354 v359) (k3_t209 : Fin (k3_t209_loop i v354 v359).trips), ∀ (k3_h105 : k3_cond105 i v354 v359 = 1#1), ∀ a, (k3_off835 i v354 v359 k3_t209) a + S1x16.size a ≤ S256x128.size a := fun i v354 v359 k3_hw9 k3_t209 k3_h105 => k3_hw9.1.2.2.2.2.2.2.2.2.2.2.2.2.2.2.2.2.2.2.2.2.2.2.2.2.2.2.2.2.2.2.2 k3_t209 k3_h105
theorem k3_off836_inb : ∀ (i : grid3.Coords) (v354 : BitVec 32) (v359 : BitVec 32) (k3_hw9 : k3_chk9 i v354 v359) (k3_t209 : Fin (k3_t209_loop i v354 v359).trips), ∀ (k3_h105 : k3_cond105 i v354 v359 = 1#1), ∀ a, (k3_off836 i v354 v359 k3_t209) a + S1x16.size a ≤ S256x128.size a := fun i v354 v359 k3_hw9 k3_t209 k3_h105 => k3_hw9.2.1 k3_t209 k3_h105
theorem k3_off837_inb : ∀ (i : grid3.Coords) (v354 : BitVec 32) (v359 : BitVec 32) (k3_hw9 : k3_chk9 i v354 v359) (k3_t209 : Fin (k3_t209_loop i v354 v359).trips), ∀ (k3_h105 : k3_cond105 i v354 v359 = 1#1), ∀ a, (k3_off837 i v354 v359 k3_t209) a + S1x16.size a ≤ S256x128.size a := fun i v354 v359 k3_hw9 k3_t209 k3_h105 => k3_hw9.2.2.1 k3_t209 k3_h105
theorem k3_off838_inb : ∀ (i : grid3.Coords) (v354 : BitVec 32) (v359 : BitVec 32) (k3_hw9 : k3_chk9 i v354 v359) (k3_t209 : Fin (k3_t209_loop i v354 v359).trips), ∀ (k3_h105 : k3_cond105 i v354 v359 = 1#1), ∀ a, (k3_off838 i v354 v359 k3_t209) a + S1x16.size a ≤ S256x128.size a := fun i v354 v359 k3_hw9 k3_t209 k3_h105 => k3_hw9.2.2.2.1 k3_t209 k3_h105
theorem k3_t210_ok : ∀ (i : grid3.Coords) (v354 : BitVec 32) (v359 : BitVec 32) (k3_hw9 : k3_chk9 i v354 v359), ∀ (k3_h105 : k3_cond105 i v354 v359 = 1#1), (k3_t210_loop i v354 v359).OK := fun i v354 v359 k3_hw9 k3_h105 => k3_hw9.2.2.2.2.1 k3_h105
theorem k3_off839_inb : ∀ (i : grid3.Coords) (v354 : BitVec 32) (v359 : BitVec 32) (k3_hw9 : k3_chk9 i v354 v359) (k3_t210 : Fin (k3_t210_loop i v354 v359).trips), ∀ (k3_h105 : k3_cond105 i v354 v359 = 1#1), ∀ a, (k3_off839 i v354 v359 k3_t210) a + S1x16.size a ≤ S256x128.size a := fun i v354 v359 k3_hw9 k3_t210 k3_h105 => k3_hw9.2.2.2.2.2.1 k3_t210 k3_h105
theorem k3_off840_inb : ∀ (i : grid3.Coords) (v354 : BitVec 32) (v359 : BitVec 32) (k3_hw9 : k3_chk9 i v354 v359) (k3_t210 : Fin (k3_t210_loop i v354 v359).trips), ∀ (k3_h105 : k3_cond105 i v354 v359 = 1#1), ∀ a, (k3_off840 i v354 v359 k3_t210) a + S1x16.size a ≤ S256x128.size a := fun i v354 v359 k3_hw9 k3_t210 k3_h105 => k3_hw9.2.2.2.2.2.2.1 k3_t210 k3_h105
theorem k3_off841_inb : ∀ (i : grid3.Coords) (v354 : BitVec 32) (v359 : BitVec 32) (k3_hw9 : k3_chk9 i v354 v359) (k3_t210 : Fin (k3_t210_loop i v354 v359).trips), ∀ (k3_h105 : k3_cond105 i v354 v359 = 1#1), ∀ a, (k3_off841 i v354 v359 k3_t210) a + S1x16.size a ≤ S256x128.size a := fun i v354 v359 k3_hw9 k3_t210 k3_h105 => k3_hw9.2.2.2.2.2.2.2.1 k3_t210 k3_h105
theorem k3_off842_inb : ∀ (i : grid3.Coords) (v354 : BitVec 32) (v359 : BitVec 32) (k3_hw9 : k3_chk9 i v354 v359) (k3_t210 : Fin (k3_t210_loop i v354 v359).trips), ∀ (k3_h105 : k3_cond105 i v354 v359 = 1#1), ∀ a, (k3_off842 i v354 v359 k3_t210) a + S1x16.size a ≤ S256x128.size a := fun i v354 v359 k3_hw9 k3_t210 k3_h105 => k3_hw9.2.2.2.2.2.2.2.2 k3_t210 k3_h105

@[reducible] def k3_t211_loop (i : grid3.Coords) (v364 : BitVec 32) (v370 : BitVec 32) : Scf.Loop 32 :=
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let c256_i32_1031 : BitVec 32 := 256#32
  let c0_i32_1030 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c768_i32_1029 : BitVec 32 := 768#32
  let v1589 : BitVec 32 := Scalar.subi v374 c768_i32_1029
  let v1590 : BitVec 32 := Scalar.maxsi c0_i32_1030 v1589
  let v1591 : BitVec 32 := Scalar.minsi c256_i32_1031 v1590
  let v1805 : BitVec 32 := Scalar.subi v1591 v1588
  let c1_i32_1195 : BitVec 32 := 1#32
  let v1807 : BitVec 32 := Scalar.divsi v1805 c1_i32_1195
  let v1808 : BitVec 32 := Scalar.muli v1807 c1_i32_1195
  let v1809 : BitVec 32 := Scalar.addi v1588 v1808
  let c1_i32_1196 : BitVec 32 := 1#32
  ⟨v1588, v1809, c1_i32_1196⟩
def k3_cond106 (i : grid3.Coords) (v364 : BitVec 32) (v370 : BitVec 32) : BitVec 1 :=
  let c256_i32_1031 : BitVec 32 := 256#32
  let c0_i32_1030 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v372 : BitVec 32 := Scalar.subi v371 v3
  let v373 : BitVec 32 := Scalar.maxsi c0_i32_158 v372
  let v374 : BitVec 32 := Scalar.minsi c1024_i32_159 v373
  let c768_i32_1029 : BitVec 32 := 768#32
  let v1589 : BitVec 32 := Scalar.subi v374 c768_i32_1029
  let v1590 : BitVec 32 := Scalar.maxsi c0_i32_1030 v1589
  let v1591 : BitVec 32 := Scalar.minsi c256_i32_1031 v1590
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let v1592 : BitVec 1 := Scalar.cmpi .sgt v1591 v1588
  let v1593 : BitVec 32 := Scalar.extui v1592
  let c0_i32_1032 : BitVec 32 := 0#32
  let v1594 : BitVec 1 := Scalar.cmpi .ne v1593 c0_i32_1032
  v1594

def k3_off843 (i : grid3.Coords) (v364 : BitVec 32) (v370 : BitVec 32) (k3_t211 : Fin (k3_t211_loop i v364 v370).trips) : Fin 2 → Nat :=
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let c1_i32_1196 : BitVec 32 := 1#32
  let arg13 : BitVec 32 := Scf.iv v1588 c1_i32_1196 k3_t211
  let v1828 : Index := Scalar.indexCast arg13
  let c64 : Index := 64#32
  ![v1828.toNat, 64]
def k3_off844 (i : grid3.Coords) (v364 : BitVec 32) (v370 : BitVec 32) (k3_t211 : Fin (k3_t211_loop i v364 v370).trips) : Fin 2 → Nat :=
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let c1_i32_1196 : BitVec 32 := 1#32
  let arg13 : BitVec 32 := Scf.iv v1588 c1_i32_1196 k3_t211
  let v1832 : Index := Scalar.indexCast arg13
  let c80 : Index := 80#32
  ![v1832.toNat, 80]
def k3_off845 (i : grid3.Coords) (v364 : BitVec 32) (v370 : BitVec 32) (k3_t211 : Fin (k3_t211_loop i v364 v370).trips) : Fin 2 → Nat :=
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let c1_i32_1196 : BitVec 32 := 1#32
  let arg13 : BitVec 32 := Scf.iv v1588 c1_i32_1196 k3_t211
  let v1836 : Index := Scalar.indexCast arg13
  let c96 : Index := 96#32
  ![v1836.toNat, 96]
def k3_off846 (i : grid3.Coords) (v364 : BitVec 32) (v370 : BitVec 32) (k3_t211 : Fin (k3_t211_loop i v364 v370).trips) : Fin 2 → Nat :=
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let c1_i32_1196 : BitVec 32 := 1#32
  let arg13 : BitVec 32 := Scf.iv v1588 c1_i32_1196 k3_t211
  let v1840 : Index := Scalar.indexCast arg13
  let c112 : Index := 112#32
  ![v1840.toNat, 112]
@[reducible] def k3_t212_loop (i : grid3.Coords) (v364 : BitVec 32) (v370 : BitVec 32) : Scf.Loop 32 :=
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let c256_i32_1031 : BitVec 32 := 256#32
  let c0_i32_1030 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c768_i32_1029 : BitVec 32 := 768#32
  let v1589 : BitVec 32 := Scalar.subi v374 c768_i32_1029
  let v1590 : BitVec 32 := Scalar.maxsi c0_i32_1030 v1589
  let v1591 : BitVec 32 := Scalar.minsi c256_i32_1031 v1590
  let v1805 : BitVec 32 := Scalar.subi v1591 v1588
  let c1_i32_1195 : BitVec 32 := 1#32
  let v1807 : BitVec 32 := Scalar.divsi v1805 c1_i32_1195
  let v1808 : BitVec 32 := Scalar.muli v1807 c1_i32_1195
  let v1809 : BitVec 32 := Scalar.addi v1588 v1808
  let v1806 : BitVec 32 := Scalar.addi v1588 v1805
  let c1_i32_1197 : BitVec 32 := 1#32
  ⟨v1809, v1806, c1_i32_1197⟩
def k3_off847 (i : grid3.Coords) (v364 : BitVec 32) (v370 : BitVec 32) (k3_t212 : Fin (k3_t212_loop i v364 v370).trips) : Fin 2 → Nat :=
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let c256_i32_1031 : BitVec 32 := 256#32
  let c0_i32_1030 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c768_i32_1029 : BitVec 32 := 768#32
  let v1589 : BitVec 32 := Scalar.subi v374 c768_i32_1029
  let v1590 : BitVec 32 := Scalar.maxsi c0_i32_1030 v1589
  let v1591 : BitVec 32 := Scalar.minsi c256_i32_1031 v1590
  let v1805 : BitVec 32 := Scalar.subi v1591 v1588
  let c1_i32_1195 : BitVec 32 := 1#32
  let v1807 : BitVec 32 := Scalar.divsi v1805 c1_i32_1195
  let v1808 : BitVec 32 := Scalar.muli v1807 c1_i32_1195
  let v1809 : BitVec 32 := Scalar.addi v1588 v1808
  let c1_i32_1197 : BitVec 32 := 1#32
  let arg13 : BitVec 32 := Scf.iv v1809 c1_i32_1197 k3_t212
  let v1828 : Index := Scalar.indexCast arg13
  let c64 : Index := 64#32
  ![v1828.toNat, 64]
def k3_off848 (i : grid3.Coords) (v364 : BitVec 32) (v370 : BitVec 32) (k3_t212 : Fin (k3_t212_loop i v364 v370).trips) : Fin 2 → Nat :=
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let c256_i32_1031 : BitVec 32 := 256#32
  let c0_i32_1030 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c768_i32_1029 : BitVec 32 := 768#32
  let v1589 : BitVec 32 := Scalar.subi v374 c768_i32_1029
  let v1590 : BitVec 32 := Scalar.maxsi c0_i32_1030 v1589
  let v1591 : BitVec 32 := Scalar.minsi c256_i32_1031 v1590
  let v1805 : BitVec 32 := Scalar.subi v1591 v1588
  let c1_i32_1195 : BitVec 32 := 1#32
  let v1807 : BitVec 32 := Scalar.divsi v1805 c1_i32_1195
  let v1808 : BitVec 32 := Scalar.muli v1807 c1_i32_1195
  let v1809 : BitVec 32 := Scalar.addi v1588 v1808
  let c1_i32_1197 : BitVec 32 := 1#32
  let arg13 : BitVec 32 := Scf.iv v1809 c1_i32_1197 k3_t212
  let v1832 : Index := Scalar.indexCast arg13
  let c80 : Index := 80#32
  ![v1832.toNat, 80]
def k3_off849 (i : grid3.Coords) (v364 : BitVec 32) (v370 : BitVec 32) (k3_t212 : Fin (k3_t212_loop i v364 v370).trips) : Fin 2 → Nat :=
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let c256_i32_1031 : BitVec 32 := 256#32
  let c0_i32_1030 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c768_i32_1029 : BitVec 32 := 768#32
  let v1589 : BitVec 32 := Scalar.subi v374 c768_i32_1029
  let v1590 : BitVec 32 := Scalar.maxsi c0_i32_1030 v1589
  let v1591 : BitVec 32 := Scalar.minsi c256_i32_1031 v1590
  let v1805 : BitVec 32 := Scalar.subi v1591 v1588
  let c1_i32_1195 : BitVec 32 := 1#32
  let v1807 : BitVec 32 := Scalar.divsi v1805 c1_i32_1195
  let v1808 : BitVec 32 := Scalar.muli v1807 c1_i32_1195
  let v1809 : BitVec 32 := Scalar.addi v1588 v1808
  let c1_i32_1197 : BitVec 32 := 1#32
  let arg13 : BitVec 32 := Scf.iv v1809 c1_i32_1197 k3_t212
  let v1836 : Index := Scalar.indexCast arg13
  let c96 : Index := 96#32
  ![v1836.toNat, 96]
def k3_off850 (i : grid3.Coords) (v364 : BitVec 32) (v370 : BitVec 32) (k3_t212 : Fin (k3_t212_loop i v364 v370).trips) : Fin 2 → Nat :=
  let c256_i32_1028 : BitVec 32 := 256#32
  let c0_i32_1027 : BitVec 32 := 0#32
  let c1024_i32_156 : BitVec 32 := 1024#32
  let c0_i32_155 : BitVec 32 := 0#32
  let c65536_i32_154 : BitVec 32 := 65536#32
  let v365 : BitVec 32 := Scalar.subi v364 c65536_i32_154
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v366 : BitVec 32 := Scalar.subi v365 v3
  let v367 : BitVec 32 := Scalar.maxsi c0_i32_155 v366
  let v368 : BitVec 32 := Scalar.minsi c1024_i32_156 v367
  let c768_i32_1026 : BitVec 32 := 768#32
  let v1586 : BitVec 32 := Scalar.subi v368 c768_i32_1026
  let v1587 : BitVec 32 := Scalar.maxsi c0_i32_1027 v1586
  let v1588 : BitVec 32 := Scalar.minsi c256_i32_1028 v1587
  let c256_i32_1031 : BitVec 32 := 256#32
  let c0_i32_1030 : BitVec 32 := 0#32
  let c1024_i32_159 : BitVec 32 := 1024#32
  let c0_i32_158 : BitVec 32 := 0#32
  let c65536_i32_157 : BitVec 32 := 65536#32
  let v371 : BitVec 32 := Scalar.subi v370 c65536_i32_157
  let v372 : BitVec 32 := Scalar.subi v371 v3
  let v373 : BitVec 32 := Scalar.maxsi c0_i32_158 v372
  let v374 : BitVec 32 := Scalar.minsi c1024_i32_159 v373
  let c768_i32_1029 : BitVec 32 := 768#32
  let v1589 : BitVec 32 := Scalar.subi v374 c768_i32_1029
  let v1590 : BitVec 32 := Scalar.maxsi c0_i32_1030 v1589
  let v1591 : BitVec 32 := Scalar.minsi c256_i32_1031 v1590
  let v1805 : BitVec 32 := Scalar.subi v1591 v1588
  let c1_i32_1195 : BitVec 32 := 1#32
  let v1807 : BitVec 32 := Scalar.divsi v1805 c1_i32_1195
  let v1808 : BitVec 32 := Scalar.muli v1807 c1_i32_1195
  let v1809 : BitVec 32 := Scalar.addi v1588 v1808
  let c1_i32_1197 : BitVec 32 := 1#32
  let arg13 : BitVec 32 := Scf.iv v1809 c1_i32_1197 k3_t212
  let v1840 : Index := Scalar.indexCast arg13
  let c112 : Index := 112#32
  ![v1840.toNat, 112]

def k3_chk10_0 (i : grid3.Coords) (v364 : BitVec 32) (v370 : BitVec 32) : Prop :=
  (∀ (k3_h10 : k3_cond10 i v364 v370 = 1#1), (k3_t19_loop i v364 v370).OK) ∧
  (∀ k3_t19 : Fin (k3_t19_loop i v364 v370).trips, ∀ (k3_h10 : k3_cond10 i v364 v370 = 1#1), ∀ a, (k3_off74 i v364 v370 k3_t19) a + S1x16.size a ≤ S256x128.size a) ∧
  (∀ k3_t19 : Fin (k3_t19_loop i v364 v370).trips, ∀ (k3_h10 : k3_cond10 i v364 v370 = 1#1), ∀ a, (k3_off75 i v364 v370 k3_t19) a + S1x16.size a ≤ S256x128.size a) ∧
  (∀ k3_t19 : Fin (k3_t19_loop i v364 v370).trips, ∀ (k3_h10 : k3_cond10 i v364 v370 = 1#1), ∀ a, (k3_off76 i v364 v370 k3_t19) a + S1x16.size a ≤ S256x128.size a) ∧
  (∀ k3_t19 : Fin (k3_t19_loop i v364 v370).trips, ∀ (k3_h10 : k3_cond10 i v364 v370 = 1#1), ∀ a, (k3_off77 i v364 v370 k3_t19) a + S1x16.size a ≤ S256x128.size a) ∧
  (∀ (k3_h10 : k3_cond10 i v364 v370 = 1#1), (k3_t20_loop i v364 v370).OK) ∧
  (∀ k3_t20 : Fin (k3_t20_loop i v364 v370).trips, ∀ (k3_h10 : k3_cond10 i v364 v370 = 1#1), ∀ a, (k3_off78 i v364 v370 k3_t20) a + S1x16.size a ≤ S256x128.size a) ∧
  (∀ k3_t20 : Fin (k3_t20_loop i v364 v370).trips, ∀ (k3_h10 : k3_cond10 i v364 v370 = 1#1), ∀ a, (k3_off79 i v364 v370 k3_t20) a + S1x16.size a ≤ S256x128.size a) ∧
  (∀ k3_t20 : Fin (k3_t20_loop i v364 v370).trips, ∀ (k3_h10 : k3_cond10 i v364 v370 = 1#1), ∀ a, (k3_off80 i v364 v370 k3_t20) a + S1x16.size a ≤ S256x128.size a) ∧
  (∀ k3_t20 : Fin (k3_t20_loop i v364 v370).trips, ∀ (k3_h10 : k3_cond10 i v364 v370 = 1#1), ∀ a, (k3_off81 i v364 v370 k3_t20) a + S1x16.size a ≤ S256x128.size a) ∧
  (∀ (k3_h42 : k3_cond42 i v364 v370 = 1#1), (k3_t83_loop i v364 v370).OK) ∧
  (∀ k3_t83 : Fin (k3_t83_loop i v364 v370).trips, ∀ (k3_h42 : k3_cond42 i v364 v370 = 1#1), ∀ a, (k3_off331 i v364 v370 k3_t83) a + S1x16.size a ≤ S256x128.size a) ∧
  (∀ k3_t83 : Fin (k3_t83_loop i v364 v370).trips, ∀ (k3_h42 : k3_cond42 i v364 v370 = 1#1), ∀ a, (k3_off332 i v364 v370 k3_t83) a + S1x16.size a ≤ S256x128.size a) ∧
  (∀ k3_t83 : Fin (k3_t83_loop i v364 v370).trips, ∀ (k3_h42 : k3_cond42 i v364 v370 = 1#1), ∀ a, (k3_off333 i v364 v370 k3_t83) a + S1x16.size a ≤ S256x128.size a) ∧
  (∀ k3_t83 : Fin (k3_t83_loop i v364 v370).trips, ∀ (k3_h42 : k3_cond42 i v364 v370 = 1#1), ∀ a, (k3_off334 i v364 v370 k3_t83) a + S1x16.size a ≤ S256x128.size a) ∧
  (∀ (k3_h42 : k3_cond42 i v364 v370 = 1#1), (k3_t84_loop i v364 v370).OK) ∧
  (∀ k3_t84 : Fin (k3_t84_loop i v364 v370).trips, ∀ (k3_h42 : k3_cond42 i v364 v370 = 1#1), ∀ a, (k3_off335 i v364 v370 k3_t84) a + S1x16.size a ≤ S256x128.size a) ∧
  (∀ k3_t84 : Fin (k3_t84_loop i v364 v370).trips, ∀ (k3_h42 : k3_cond42 i v364 v370 = 1#1), ∀ a, (k3_off336 i v364 v370 k3_t84) a + S1x16.size a ≤ S256x128.size a) ∧
  (∀ k3_t84 : Fin (k3_t84_loop i v364 v370).trips, ∀ (k3_h42 : k3_cond42 i v364 v370 = 1#1), ∀ a, (k3_off337 i v364 v370 k3_t84) a + S1x16.size a ≤ S256x128.size a) ∧
  (∀ k3_t84 : Fin (k3_t84_loop i v364 v370).trips, ∀ (k3_h42 : k3_cond42 i v364 v370 = 1#1), ∀ a, (k3_off338 i v364 v370 k3_t84) a + S1x16.size a ≤ S256x128.size a) ∧
  (∀ (k3_h74 : k3_cond74 i v364 v370 = 1#1), (k3_t147_loop i v364 v370).OK) ∧
  (∀ k3_t147 : Fin (k3_t147_loop i v364 v370).trips, ∀ (k3_h74 : k3_cond74 i v364 v370 = 1#1), ∀ a, (k3_off587 i v364 v370 k3_t147) a + S1x16.size a ≤ S256x128.size a) ∧
  (∀ k3_t147 : Fin (k3_t147_loop i v364 v370).trips, ∀ (k3_h74 : k3_cond74 i v364 v370 = 1#1), ∀ a, (k3_off588 i v364 v370 k3_t147) a + S1x16.size a ≤ S256x128.size a) ∧
  (∀ k3_t147 : Fin (k3_t147_loop i v364 v370).trips, ∀ (k3_h74 : k3_cond74 i v364 v370 = 1#1), ∀ a, (k3_off589 i v364 v370 k3_t147) a + S1x16.size a ≤ S256x128.size a) ∧
  (∀ k3_t147 : Fin (k3_t147_loop i v364 v370).trips, ∀ (k3_h74 : k3_cond74 i v364 v370 = 1#1), ∀ a, (k3_off590 i v364 v370 k3_t147) a + S1x16.size a ≤ S256x128.size a) ∧
  (∀ (k3_h74 : k3_cond74 i v364 v370 = 1#1), (k3_t148_loop i v364 v370).OK) ∧
  (∀ k3_t148 : Fin (k3_t148_loop i v364 v370).trips, ∀ (k3_h74 : k3_cond74 i v364 v370 = 1#1), ∀ a, (k3_off591 i v364 v370 k3_t148) a + S1x16.size a ≤ S256x128.size a) ∧
  (∀ k3_t148 : Fin (k3_t148_loop i v364 v370).trips, ∀ (k3_h74 : k3_cond74 i v364 v370 = 1#1), ∀ a, (k3_off592 i v364 v370 k3_t148) a + S1x16.size a ≤ S256x128.size a) ∧
  (∀ k3_t148 : Fin (k3_t148_loop i v364 v370).trips, ∀ (k3_h74 : k3_cond74 i v364 v370 = 1#1), ∀ a, (k3_off593 i v364 v370 k3_t148) a + S1x16.size a ≤ S256x128.size a) ∧
  (∀ k3_t148 : Fin (k3_t148_loop i v364 v370).trips, ∀ (k3_h74 : k3_cond74 i v364 v370 = 1#1), ∀ a, (k3_off594 i v364 v370 k3_t148) a + S1x16.size a ≤ S256x128.size a) ∧
  (∀ (k3_h106 : k3_cond106 i v364 v370 = 1#1), (k3_t211_loop i v364 v370).OK) ∧
  (∀ k3_t211 : Fin (k3_t211_loop i v364 v370).trips, ∀ (k3_h106 : k3_cond106 i v364 v370 = 1#1), ∀ a, (k3_off843 i v364 v370 k3_t211) a + S1x16.size a ≤ S256x128.size a)
def k3_chk10_1 (i : grid3.Coords) (v364 : BitVec 32) (v370 : BitVec 32) : Prop :=
  (∀ k3_t211 : Fin (k3_t211_loop i v364 v370).trips, ∀ (k3_h106 : k3_cond106 i v364 v370 = 1#1), ∀ a, (k3_off844 i v364 v370 k3_t211) a + S1x16.size a ≤ S256x128.size a) ∧
  (∀ k3_t211 : Fin (k3_t211_loop i v364 v370).trips, ∀ (k3_h106 : k3_cond106 i v364 v370 = 1#1), ∀ a, (k3_off845 i v364 v370 k3_t211) a + S1x16.size a ≤ S256x128.size a) ∧
  (∀ k3_t211 : Fin (k3_t211_loop i v364 v370).trips, ∀ (k3_h106 : k3_cond106 i v364 v370 = 1#1), ∀ a, (k3_off846 i v364 v370 k3_t211) a + S1x16.size a ≤ S256x128.size a) ∧
  (∀ (k3_h106 : k3_cond106 i v364 v370 = 1#1), (k3_t212_loop i v364 v370).OK) ∧
  (∀ k3_t212 : Fin (k3_t212_loop i v364 v370).trips, ∀ (k3_h106 : k3_cond106 i v364 v370 = 1#1), ∀ a, (k3_off847 i v364 v370 k3_t212) a + S1x16.size a ≤ S256x128.size a) ∧
  (∀ k3_t212 : Fin (k3_t212_loop i v364 v370).trips, ∀ (k3_h106 : k3_cond106 i v364 v370 = 1#1), ∀ a, (k3_off848 i v364 v370 k3_t212) a + S1x16.size a ≤ S256x128.size a) ∧
  (∀ k3_t212 : Fin (k3_t212_loop i v364 v370).trips, ∀ (k3_h106 : k3_cond106 i v364 v370 = 1#1), ∀ a, (k3_off849 i v364 v370 k3_t212) a + S1x16.size a ≤ S256x128.size a) ∧
  (∀ k3_t212 : Fin (k3_t212_loop i v364 v370).trips, ∀ (k3_h106 : k3_cond106 i v364 v370 = 1#1), ∀ a, (k3_off850 i v364 v370 k3_t212) a + S1x16.size a ≤ S256x128.size a)
def k3_chk10 (i : grid3.Coords) (v364 : BitVec 32) (v370 : BitVec 32) : Prop :=
  k3_chk10_0 i v364 v370 ∧
  k3_chk10_1 i v364 v370
theorem k3_t19_ok : ∀ (i : grid3.Coords) (v364 : BitVec 32) (v370 : BitVec 32) (k3_hw10 : k3_chk10 i v364 v370), ∀ (k3_h10 : k3_cond10 i v364 v370 = 1#1), (k3_t19_loop i v364 v370).OK := fun i v364 v370 k3_hw10 k3_h10 => k3_hw10.1.1 k3_h10
theorem k3_off74_inb : ∀ (i : grid3.Coords) (v364 : BitVec 32) (v370 : BitVec 32) (k3_hw10 : k3_chk10 i v364 v370) (k3_t19 : Fin (k3_t19_loop i v364 v370).trips), ∀ (k3_h10 : k3_cond10 i v364 v370 = 1#1), ∀ a, (k3_off74 i v364 v370 k3_t19) a + S1x16.size a ≤ S256x128.size a := fun i v364 v370 k3_hw10 k3_t19 k3_h10 => k3_hw10.1.2.1 k3_t19 k3_h10
theorem k3_off75_inb : ∀ (i : grid3.Coords) (v364 : BitVec 32) (v370 : BitVec 32) (k3_hw10 : k3_chk10 i v364 v370) (k3_t19 : Fin (k3_t19_loop i v364 v370).trips), ∀ (k3_h10 : k3_cond10 i v364 v370 = 1#1), ∀ a, (k3_off75 i v364 v370 k3_t19) a + S1x16.size a ≤ S256x128.size a := fun i v364 v370 k3_hw10 k3_t19 k3_h10 => k3_hw10.1.2.2.1 k3_t19 k3_h10
theorem k3_off76_inb : ∀ (i : grid3.Coords) (v364 : BitVec 32) (v370 : BitVec 32) (k3_hw10 : k3_chk10 i v364 v370) (k3_t19 : Fin (k3_t19_loop i v364 v370).trips), ∀ (k3_h10 : k3_cond10 i v364 v370 = 1#1), ∀ a, (k3_off76 i v364 v370 k3_t19) a + S1x16.size a ≤ S256x128.size a := fun i v364 v370 k3_hw10 k3_t19 k3_h10 => k3_hw10.1.2.2.2.1 k3_t19 k3_h10
theorem k3_off77_inb : ∀ (i : grid3.Coords) (v364 : BitVec 32) (v370 : BitVec 32) (k3_hw10 : k3_chk10 i v364 v370) (k3_t19 : Fin (k3_t19_loop i v364 v370).trips), ∀ (k3_h10 : k3_cond10 i v364 v370 = 1#1), ∀ a, (k3_off77 i v364 v370 k3_t19) a + S1x16.size a ≤ S256x128.size a := fun i v364 v370 k3_hw10 k3_t19 k3_h10 => k3_hw10.1.2.2.2.2.1 k3_t19 k3_h10
theorem k3_t20_ok : ∀ (i : grid3.Coords) (v364 : BitVec 32) (v370 : BitVec 32) (k3_hw10 : k3_chk10 i v364 v370), ∀ (k3_h10 : k3_cond10 i v364 v370 = 1#1), (k3_t20_loop i v364 v370).OK := fun i v364 v370 k3_hw10 k3_h10 => k3_hw10.1.2.2.2.2.2.1 k3_h10
theorem k3_off78_inb : ∀ (i : grid3.Coords) (v364 : BitVec 32) (v370 : BitVec 32) (k3_hw10 : k3_chk10 i v364 v370) (k3_t20 : Fin (k3_t20_loop i v364 v370).trips), ∀ (k3_h10 : k3_cond10 i v364 v370 = 1#1), ∀ a, (k3_off78 i v364 v370 k3_t20) a + S1x16.size a ≤ S256x128.size a := fun i v364 v370 k3_hw10 k3_t20 k3_h10 => k3_hw10.1.2.2.2.2.2.2.1 k3_t20 k3_h10
theorem k3_off79_inb : ∀ (i : grid3.Coords) (v364 : BitVec 32) (v370 : BitVec 32) (k3_hw10 : k3_chk10 i v364 v370) (k3_t20 : Fin (k3_t20_loop i v364 v370).trips), ∀ (k3_h10 : k3_cond10 i v364 v370 = 1#1), ∀ a, (k3_off79 i v364 v370 k3_t20) a + S1x16.size a ≤ S256x128.size a := fun i v364 v370 k3_hw10 k3_t20 k3_h10 => k3_hw10.1.2.2.2.2.2.2.2.1 k3_t20 k3_h10
theorem k3_off80_inb : ∀ (i : grid3.Coords) (v364 : BitVec 32) (v370 : BitVec 32) (k3_hw10 : k3_chk10 i v364 v370) (k3_t20 : Fin (k3_t20_loop i v364 v370).trips), ∀ (k3_h10 : k3_cond10 i v364 v370 = 1#1), ∀ a, (k3_off80 i v364 v370 k3_t20) a + S1x16.size a ≤ S256x128.size a := fun i v364 v370 k3_hw10 k3_t20 k3_h10 => k3_hw10.1.2.2.2.2.2.2.2.2.1 k3_t20 k3_h10
theorem k3_off81_inb : ∀ (i : grid3.Coords) (v364 : BitVec 32) (v370 : BitVec 32) (k3_hw10 : k3_chk10 i v364 v370) (k3_t20 : Fin (k3_t20_loop i v364 v370).trips), ∀ (k3_h10 : k3_cond10 i v364 v370 = 1#1), ∀ a, (k3_off81 i v364 v370 k3_t20) a + S1x16.size a ≤ S256x128.size a := fun i v364 v370 k3_hw10 k3_t20 k3_h10 => k3_hw10.1.2.2.2.2.2.2.2.2.2.1 k3_t20 k3_h10
theorem k3_t83_ok : ∀ (i : grid3.Coords) (v364 : BitVec 32) (v370 : BitVec 32) (k3_hw10 : k3_chk10 i v364 v370), ∀ (k3_h42 : k3_cond42 i v364 v370 = 1#1), (k3_t83_loop i v364 v370).OK := fun i v364 v370 k3_hw10 k3_h42 => k3_hw10.1.2.2.2.2.2.2.2.2.2.2.1 k3_h42
theorem k3_off331_inb : ∀ (i : grid3.Coords) (v364 : BitVec 32) (v370 : BitVec 32) (k3_hw10 : k3_chk10 i v364 v370) (k3_t83 : Fin (k3_t83_loop i v364 v370).trips), ∀ (k3_h42 : k3_cond42 i v364 v370 = 1#1), ∀ a, (k3_off331 i v364 v370 k3_t83) a + S1x16.size a ≤ S256x128.size a := fun i v364 v370 k3_hw10 k3_t83 k3_h42 => k3_hw10.1.2.2.2.2.2.2.2.2.2.2.2.1 k3_t83 k3_h42
theorem k3_off332_inb : ∀ (i : grid3.Coords) (v364 : BitVec 32) (v370 : BitVec 32) (k3_hw10 : k3_chk10 i v364 v370) (k3_t83 : Fin (k3_t83_loop i v364 v370).trips), ∀ (k3_h42 : k3_cond42 i v364 v370 = 1#1), ∀ a, (k3_off332 i v364 v370 k3_t83) a + S1x16.size a ≤ S256x128.size a := fun i v364 v370 k3_hw10 k3_t83 k3_h42 => k3_hw10.1.2.2.2.2.2.2.2.2.2.2.2.2.1 k3_t83 k3_h42
theorem k3_off333_inb : ∀ (i : grid3.Coords) (v364 : BitVec 32) (v370 : BitVec 32) (k3_hw10 : k3_chk10 i v364 v370) (k3_t83 : Fin (k3_t83_loop i v364 v370).trips), ∀ (k3_h42 : k3_cond42 i v364 v370 = 1#1), ∀ a, (k3_off333 i v364 v370 k3_t83) a + S1x16.size a ≤ S256x128.size a := fun i v364 v370 k3_hw10 k3_t83 k3_h42 => k3_hw10.1.2.2.2.2.2.2.2.2.2.2.2.2.2.1 k3_t83 k3_h42
theorem k3_off334_inb : ∀ (i : grid3.Coords) (v364 : BitVec 32) (v370 : BitVec 32) (k3_hw10 : k3_chk10 i v364 v370) (k3_t83 : Fin (k3_t83_loop i v364 v370).trips), ∀ (k3_h42 : k3_cond42 i v364 v370 = 1#1), ∀ a, (k3_off334 i v364 v370 k3_t83) a + S1x16.size a ≤ S256x128.size a := fun i v364 v370 k3_hw10 k3_t83 k3_h42 => k3_hw10.1.2.2.2.2.2.2.2.2.2.2.2.2.2.2.1 k3_t83 k3_h42
theorem k3_t84_ok : ∀ (i : grid3.Coords) (v364 : BitVec 32) (v370 : BitVec 32) (k3_hw10 : k3_chk10 i v364 v370), ∀ (k3_h42 : k3_cond42 i v364 v370 = 1#1), (k3_t84_loop i v364 v370).OK := fun i v364 v370 k3_hw10 k3_h42 => k3_hw10.1.2.2.2.2.2.2.2.2.2.2.2.2.2.2.2.1 k3_h42
theorem k3_off335_inb : ∀ (i : grid3.Coords) (v364 : BitVec 32) (v370 : BitVec 32) (k3_hw10 : k3_chk10 i v364 v370) (k3_t84 : Fin (k3_t84_loop i v364 v370).trips), ∀ (k3_h42 : k3_cond42 i v364 v370 = 1#1), ∀ a, (k3_off335 i v364 v370 k3_t84) a + S1x16.size a ≤ S256x128.size a := fun i v364 v370 k3_hw10 k3_t84 k3_h42 => k3_hw10.1.2.2.2.2.2.2.2.2.2.2.2.2.2.2.2.2.1 k3_t84 k3_h42
theorem k3_off336_inb : ∀ (i : grid3.Coords) (v364 : BitVec 32) (v370 : BitVec 32) (k3_hw10 : k3_chk10 i v364 v370) (k3_t84 : Fin (k3_t84_loop i v364 v370).trips), ∀ (k3_h42 : k3_cond42 i v364 v370 = 1#1), ∀ a, (k3_off336 i v364 v370 k3_t84) a + S1x16.size a ≤ S256x128.size a := fun i v364 v370 k3_hw10 k3_t84 k3_h42 => k3_hw10.1.2.2.2.2.2.2.2.2.2.2.2.2.2.2.2.2.2.1 k3_t84 k3_h42
theorem k3_off337_inb : ∀ (i : grid3.Coords) (v364 : BitVec 32) (v370 : BitVec 32) (k3_hw10 : k3_chk10 i v364 v370) (k3_t84 : Fin (k3_t84_loop i v364 v370).trips), ∀ (k3_h42 : k3_cond42 i v364 v370 = 1#1), ∀ a, (k3_off337 i v364 v370 k3_t84) a + S1x16.size a ≤ S256x128.size a := fun i v364 v370 k3_hw10 k3_t84 k3_h42 => k3_hw10.1.2.2.2.2.2.2.2.2.2.2.2.2.2.2.2.2.2.2.1 k3_t84 k3_h42
theorem k3_off338_inb : ∀ (i : grid3.Coords) (v364 : BitVec 32) (v370 : BitVec 32) (k3_hw10 : k3_chk10 i v364 v370) (k3_t84 : Fin (k3_t84_loop i v364 v370).trips), ∀ (k3_h42 : k3_cond42 i v364 v370 = 1#1), ∀ a, (k3_off338 i v364 v370 k3_t84) a + S1x16.size a ≤ S256x128.size a := fun i v364 v370 k3_hw10 k3_t84 k3_h42 => k3_hw10.1.2.2.2.2.2.2.2.2.2.2.2.2.2.2.2.2.2.2.2.1 k3_t84 k3_h42
theorem k3_t147_ok : ∀ (i : grid3.Coords) (v364 : BitVec 32) (v370 : BitVec 32) (k3_hw10 : k3_chk10 i v364 v370), ∀ (k3_h74 : k3_cond74 i v364 v370 = 1#1), (k3_t147_loop i v364 v370).OK := fun i v364 v370 k3_hw10 k3_h74 => k3_hw10.1.2.2.2.2.2.2.2.2.2.2.2.2.2.2.2.2.2.2.2.2.1 k3_h74
theorem k3_off587_inb : ∀ (i : grid3.Coords) (v364 : BitVec 32) (v370 : BitVec 32) (k3_hw10 : k3_chk10 i v364 v370) (k3_t147 : Fin (k3_t147_loop i v364 v370).trips), ∀ (k3_h74 : k3_cond74 i v364 v370 = 1#1), ∀ a, (k3_off587 i v364 v370 k3_t147) a + S1x16.size a ≤ S256x128.size a := fun i v364 v370 k3_hw10 k3_t147 k3_h74 => k3_hw10.1.2.2.2.2.2.2.2.2.2.2.2.2.2.2.2.2.2.2.2.2.2.1 k3_t147 k3_h74
theorem k3_off588_inb : ∀ (i : grid3.Coords) (v364 : BitVec 32) (v370 : BitVec 32) (k3_hw10 : k3_chk10 i v364 v370) (k3_t147 : Fin (k3_t147_loop i v364 v370).trips), ∀ (k3_h74 : k3_cond74 i v364 v370 = 1#1), ∀ a, (k3_off588 i v364 v370 k3_t147) a + S1x16.size a ≤ S256x128.size a := fun i v364 v370 k3_hw10 k3_t147 k3_h74 => k3_hw10.1.2.2.2.2.2.2.2.2.2.2.2.2.2.2.2.2.2.2.2.2.2.2.1 k3_t147 k3_h74
theorem k3_off589_inb : ∀ (i : grid3.Coords) (v364 : BitVec 32) (v370 : BitVec 32) (k3_hw10 : k3_chk10 i v364 v370) (k3_t147 : Fin (k3_t147_loop i v364 v370).trips), ∀ (k3_h74 : k3_cond74 i v364 v370 = 1#1), ∀ a, (k3_off589 i v364 v370 k3_t147) a + S1x16.size a ≤ S256x128.size a := fun i v364 v370 k3_hw10 k3_t147 k3_h74 => k3_hw10.1.2.2.2.2.2.2.2.2.2.2.2.2.2.2.2.2.2.2.2.2.2.2.2.1 k3_t147 k3_h74
theorem k3_off590_inb : ∀ (i : grid3.Coords) (v364 : BitVec 32) (v370 : BitVec 32) (k3_hw10 : k3_chk10 i v364 v370) (k3_t147 : Fin (k3_t147_loop i v364 v370).trips), ∀ (k3_h74 : k3_cond74 i v364 v370 = 1#1), ∀ a, (k3_off590 i v364 v370 k3_t147) a + S1x16.size a ≤ S256x128.size a := fun i v364 v370 k3_hw10 k3_t147 k3_h74 => k3_hw10.1.2.2.2.2.2.2.2.2.2.2.2.2.2.2.2.2.2.2.2.2.2.2.2.2.1 k3_t147 k3_h74
theorem k3_t148_ok : ∀ (i : grid3.Coords) (v364 : BitVec 32) (v370 : BitVec 32) (k3_hw10 : k3_chk10 i v364 v370), ∀ (k3_h74 : k3_cond74 i v364 v370 = 1#1), (k3_t148_loop i v364 v370).OK := fun i v364 v370 k3_hw10 k3_h74 => k3_hw10.1.2.2.2.2.2.2.2.2.2.2.2.2.2.2.2.2.2.2.2.2.2.2.2.2.2.1 k3_h74
theorem k3_off591_inb : ∀ (i : grid3.Coords) (v364 : BitVec 32) (v370 : BitVec 32) (k3_hw10 : k3_chk10 i v364 v370) (k3_t148 : Fin (k3_t148_loop i v364 v370).trips), ∀ (k3_h74 : k3_cond74 i v364 v370 = 1#1), ∀ a, (k3_off591 i v364 v370 k3_t148) a + S1x16.size a ≤ S256x128.size a := fun i v364 v370 k3_hw10 k3_t148 k3_h74 => k3_hw10.1.2.2.2.2.2.2.2.2.2.2.2.2.2.2.2.2.2.2.2.2.2.2.2.2.2.2.1 k3_t148 k3_h74
theorem k3_off592_inb : ∀ (i : grid3.Coords) (v364 : BitVec 32) (v370 : BitVec 32) (k3_hw10 : k3_chk10 i v364 v370) (k3_t148 : Fin (k3_t148_loop i v364 v370).trips), ∀ (k3_h74 : k3_cond74 i v364 v370 = 1#1), ∀ a, (k3_off592 i v364 v370 k3_t148) a + S1x16.size a ≤ S256x128.size a := fun i v364 v370 k3_hw10 k3_t148 k3_h74 => k3_hw10.1.2.2.2.2.2.2.2.2.2.2.2.2.2.2.2.2.2.2.2.2.2.2.2.2.2.2.2.1 k3_t148 k3_h74
theorem k3_off593_inb : ∀ (i : grid3.Coords) (v364 : BitVec 32) (v370 : BitVec 32) (k3_hw10 : k3_chk10 i v364 v370) (k3_t148 : Fin (k3_t148_loop i v364 v370).trips), ∀ (k3_h74 : k3_cond74 i v364 v370 = 1#1), ∀ a, (k3_off593 i v364 v370 k3_t148) a + S1x16.size a ≤ S256x128.size a := fun i v364 v370 k3_hw10 k3_t148 k3_h74 => k3_hw10.1.2.2.2.2.2.2.2.2.2.2.2.2.2.2.2.2.2.2.2.2.2.2.2.2.2.2.2.2.1 k3_t148 k3_h74
theorem k3_off594_inb : ∀ (i : grid3.Coords) (v364 : BitVec 32) (v370 : BitVec 32) (k3_hw10 : k3_chk10 i v364 v370) (k3_t148 : Fin (k3_t148_loop i v364 v370).trips), ∀ (k3_h74 : k3_cond74 i v364 v370 = 1#1), ∀ a, (k3_off594 i v364 v370 k3_t148) a + S1x16.size a ≤ S256x128.size a := fun i v364 v370 k3_hw10 k3_t148 k3_h74 => k3_hw10.1.2.2.2.2.2.2.2.2.2.2.2.2.2.2.2.2.2.2.2.2.2.2.2.2.2.2.2.2.2.1 k3_t148 k3_h74
theorem k3_t211_ok : ∀ (i : grid3.Coords) (v364 : BitVec 32) (v370 : BitVec 32) (k3_hw10 : k3_chk10 i v364 v370), ∀ (k3_h106 : k3_cond106 i v364 v370 = 1#1), (k3_t211_loop i v364 v370).OK := fun i v364 v370 k3_hw10 k3_h106 => k3_hw10.1.2.2.2.2.2.2.2.2.2.2.2.2.2.2.2.2.2.2.2.2.2.2.2.2.2.2.2.2.2.2.1 k3_h106
theorem k3_off843_inb : ∀ (i : grid3.Coords) (v364 : BitVec 32) (v370 : BitVec 32) (k3_hw10 : k3_chk10 i v364 v370) (k3_t211 : Fin (k3_t211_loop i v364 v370).trips), ∀ (k3_h106 : k3_cond106 i v364 v370 = 1#1), ∀ a, (k3_off843 i v364 v370 k3_t211) a + S1x16.size a ≤ S256x128.size a := fun i v364 v370 k3_hw10 k3_t211 k3_h106 => k3_hw10.1.2.2.2.2.2.2.2.2.2.2.2.2.2.2.2.2.2.2.2.2.2.2.2.2.2.2.2.2.2.2.2 k3_t211 k3_h106
theorem k3_off844_inb : ∀ (i : grid3.Coords) (v364 : BitVec 32) (v370 : BitVec 32) (k3_hw10 : k3_chk10 i v364 v370) (k3_t211 : Fin (k3_t211_loop i v364 v370).trips), ∀ (k3_h106 : k3_cond106 i v364 v370 = 1#1), ∀ a, (k3_off844 i v364 v370 k3_t211) a + S1x16.size a ≤ S256x128.size a := fun i v364 v370 k3_hw10 k3_t211 k3_h106 => k3_hw10.2.1 k3_t211 k3_h106
theorem k3_off845_inb : ∀ (i : grid3.Coords) (v364 : BitVec 32) (v370 : BitVec 32) (k3_hw10 : k3_chk10 i v364 v370) (k3_t211 : Fin (k3_t211_loop i v364 v370).trips), ∀ (k3_h106 : k3_cond106 i v364 v370 = 1#1), ∀ a, (k3_off845 i v364 v370 k3_t211) a + S1x16.size a ≤ S256x128.size a := fun i v364 v370 k3_hw10 k3_t211 k3_h106 => k3_hw10.2.2.1 k3_t211 k3_h106
theorem k3_off846_inb : ∀ (i : grid3.Coords) (v364 : BitVec 32) (v370 : BitVec 32) (k3_hw10 : k3_chk10 i v364 v370) (k3_t211 : Fin (k3_t211_loop i v364 v370).trips), ∀ (k3_h106 : k3_cond106 i v364 v370 = 1#1), ∀ a, (k3_off846 i v364 v370 k3_t211) a + S1x16.size a ≤ S256x128.size a := fun i v364 v370 k3_hw10 k3_t211 k3_h106 => k3_hw10.2.2.2.1 k3_t211 k3_h106
theorem k3_t212_ok : ∀ (i : grid3.Coords) (v364 : BitVec 32) (v370 : BitVec 32) (k3_hw10 : k3_chk10 i v364 v370), ∀ (k3_h106 : k3_cond106 i v364 v370 = 1#1), (k3_t212_loop i v364 v370).OK := fun i v364 v370 k3_hw10 k3_h106 => k3_hw10.2.2.2.2.1 k3_h106
theorem k3_off847_inb : ∀ (i : grid3.Coords) (v364 : BitVec 32) (v370 : BitVec 32) (k3_hw10 : k3_chk10 i v364 v370) (k3_t212 : Fin (k3_t212_loop i v364 v370).trips), ∀ (k3_h106 : k3_cond106 i v364 v370 = 1#1), ∀ a, (k3_off847 i v364 v370 k3_t212) a + S1x16.size a ≤ S256x128.size a := fun i v364 v370 k3_hw10 k3_t212 k3_h106 => k3_hw10.2.2.2.2.2.1 k3_t212 k3_h106
theorem k3_off848_inb : ∀ (i : grid3.Coords) (v364 : BitVec 32) (v370 : BitVec 32) (k3_hw10 : k3_chk10 i v364 v370) (k3_t212 : Fin (k3_t212_loop i v364 v370).trips), ∀ (k3_h106 : k3_cond106 i v364 v370 = 1#1), ∀ a, (k3_off848 i v364 v370 k3_t212) a + S1x16.size a ≤ S256x128.size a := fun i v364 v370 k3_hw10 k3_t212 k3_h106 => k3_hw10.2.2.2.2.2.2.1 k3_t212 k3_h106
theorem k3_off849_inb : ∀ (i : grid3.Coords) (v364 : BitVec 32) (v370 : BitVec 32) (k3_hw10 : k3_chk10 i v364 v370) (k3_t212 : Fin (k3_t212_loop i v364 v370).trips), ∀ (k3_h106 : k3_cond106 i v364 v370 = 1#1), ∀ a, (k3_off849 i v364 v370 k3_t212) a + S1x16.size a ≤ S256x128.size a := fun i v364 v370 k3_hw10 k3_t212 k3_h106 => k3_hw10.2.2.2.2.2.2.2.1 k3_t212 k3_h106
theorem k3_off850_inb : ∀ (i : grid3.Coords) (v364 : BitVec 32) (v370 : BitVec 32) (k3_hw10 : k3_chk10 i v364 v370) (k3_t212 : Fin (k3_t212_loop i v364 v370).trips), ∀ (k3_h106 : k3_cond106 i v364 v370 = 1#1), ∀ a, (k3_off850 i v364 v370 k3_t212) a + S1x16.size a ≤ S256x128.size a := fun i v364 v370 k3_hw10 k3_t212 k3_h106 => k3_hw10.2.2.2.2.2.2.2.2 k3_t212 k3_h106

@[reducible] def k3_t213_loop (i : grid3.Coords) (v376 : BitVec 32) (v381 : BitVec 32) : Scf.Loop 32 :=
  let c256_i32_1035 : BitVec 32 := 256#32
  let c0_i32_1034 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let c256_i32_1038 : BitVec 32 := 256#32
  let c0_i32_1037 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c768_i32_1036 : BitVec 32 := 768#32
  let v1598 : BitVec 32 := Scalar.subi v384 c768_i32_1036
  let v1599 : BitVec 32 := Scalar.maxsi c0_i32_1037 v1598
  let v1600 : BitVec 32 := Scalar.minsi c256_i32_1038 v1599
  let v1805 : BitVec 32 := Scalar.subi v1600 v1597
  let c1_i32_1195 : BitVec 32 := 1#32
  let v1807 : BitVec 32 := Scalar.divsi v1805 c1_i32_1195
  let v1808 : BitVec 32 := Scalar.muli v1807 c1_i32_1195
  let v1809 : BitVec 32 := Scalar.addi v1597 v1808
  let c1_i32_1196 : BitVec 32 := 1#32
  ⟨v1597, v1809, c1_i32_1196⟩
def k3_cond107 (i : grid3.Coords) (v376 : BitVec 32) (v381 : BitVec 32) : BitVec 1 :=
  let c256_i32_1038 : BitVec 32 := 256#32
  let c0_i32_1037 : BitVec 32 := 0#32
  let c1024_i32_163 : BitVec 32 := 1024#32
  let c0_i32_162 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v382 : BitVec 32 := Scalar.subi v381 v3
  let v383 : BitVec 32 := Scalar.maxsi c0_i32_162 v382
  let v384 : BitVec 32 := Scalar.minsi c1024_i32_163 v383
  let c768_i32_1036 : BitVec 32 := 768#32
  let v1598 : BitVec 32 := Scalar.subi v384 c768_i32_1036
  let v1599 : BitVec 32 := Scalar.maxsi c0_i32_1037 v1598
  let v1600 : BitVec 32 := Scalar.minsi c256_i32_1038 v1599
  let c256_i32_1035 : BitVec 32 := 256#32
  let c0_i32_1034 : BitVec 32 := 0#32
  let c1024_i32_161 : BitVec 32 := 1024#32
  let c0_i32_160 : BitVec 32 := 0#32
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let v1601 : BitVec 1 := Scalar.cmpi .sgt v1600 v1597
  let v1602 : BitVec 32 := Scalar.extui v1601
  let c0_i32_1039 : BitVec 32 := 0#32
  let v1603 : BitVec 1 := Scalar.cmpi .ne v1602 c0_i32_1039
  v1603

def k3_off851 (i : grid3.Coords) (v376 : BitVec 32) (v381 : BitVec 32) (k3_t213 : Fin (k3_t213_loop i v376 v381).trips) : Fin 2 → Nat :=
  let c256_i32_1035 : BitVec 32 := 256#32
  let c0_i32_1034 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let c1_i32_1196 : BitVec 32 := 1#32
  let arg13 : BitVec 32 := Scf.iv v1597 c1_i32_1196 k3_t213
  let v1828 : Index := Scalar.indexCast arg13
  let c0_1206 : Index := 0#32
  ![v1828.toNat, 0]
def k3_off852 (i : grid3.Coords) (v376 : BitVec 32) (v381 : BitVec 32) (k3_t213 : Fin (k3_t213_loop i v376 v381).trips) : Fin 2 → Nat :=
  let c256_i32_1035 : BitVec 32 := 256#32
  let c0_i32_1034 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let c1_i32_1196 : BitVec 32 := 1#32
  let arg13 : BitVec 32 := Scf.iv v1597 c1_i32_1196 k3_t213
  let v1832 : Index := Scalar.indexCast arg13
  let c16_1207 : Index := 16#32
  ![v1832.toNat, 16]
def k3_off853 (i : grid3.Coords) (v376 : BitVec 32) (v381 : BitVec 32) (k3_t213 : Fin (k3_t213_loop i v376 v381).trips) : Fin 2 → Nat :=
  let c256_i32_1035 : BitVec 32 := 256#32
  let c0_i32_1034 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let c1_i32_1196 : BitVec 32 := 1#32
  let arg13 : BitVec 32 := Scf.iv v1597 c1_i32_1196 k3_t213
  let v1836 : Index := Scalar.indexCast arg13
  let c32_1208 : Index := 32#32
  ![v1836.toNat, 32]
def k3_off854 (i : grid3.Coords) (v376 : BitVec 32) (v381 : BitVec 32) (k3_t213 : Fin (k3_t213_loop i v376 v381).trips) : Fin 2 → Nat :=
  let c256_i32_1035 : BitVec 32 := 256#32
  let c0_i32_1034 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let c1_i32_1196 : BitVec 32 := 1#32
  let arg13 : BitVec 32 := Scf.iv v1597 c1_i32_1196 k3_t213
  let v1840 : Index := Scalar.indexCast arg13
  let c48_1209 : Index := 48#32
  ![v1840.toNat, 48]
@[reducible] def k3_t214_loop (i : grid3.Coords) (v376 : BitVec 32) (v381 : BitVec 32) : Scf.Loop 32 :=
  let c256_i32_1035 : BitVec 32 := 256#32
  let c0_i32_1034 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let c256_i32_1038 : BitVec 32 := 256#32
  let c0_i32_1037 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c768_i32_1036 : BitVec 32 := 768#32
  let v1598 : BitVec 32 := Scalar.subi v384 c768_i32_1036
  let v1599 : BitVec 32 := Scalar.maxsi c0_i32_1037 v1598
  let v1600 : BitVec 32 := Scalar.minsi c256_i32_1038 v1599
  let v1805 : BitVec 32 := Scalar.subi v1600 v1597
  let c1_i32_1195 : BitVec 32 := 1#32
  let v1807 : BitVec 32 := Scalar.divsi v1805 c1_i32_1195
  let v1808 : BitVec 32 := Scalar.muli v1807 c1_i32_1195
  let v1809 : BitVec 32 := Scalar.addi v1597 v1808
  let v1806 : BitVec 32 := Scalar.addi v1597 v1805
  let c1_i32_1197 : BitVec 32 := 1#32
  ⟨v1809, v1806, c1_i32_1197⟩
def k3_off855 (i : grid3.Coords) (v376 : BitVec 32) (v381 : BitVec 32) (k3_t214 : Fin (k3_t214_loop i v376 v381).trips) : Fin 2 → Nat :=
  let c256_i32_1035 : BitVec 32 := 256#32
  let c0_i32_1034 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let c256_i32_1038 : BitVec 32 := 256#32
  let c0_i32_1037 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c768_i32_1036 : BitVec 32 := 768#32
  let v1598 : BitVec 32 := Scalar.subi v384 c768_i32_1036
  let v1599 : BitVec 32 := Scalar.maxsi c0_i32_1037 v1598
  let v1600 : BitVec 32 := Scalar.minsi c256_i32_1038 v1599
  let v1805 : BitVec 32 := Scalar.subi v1600 v1597
  let c1_i32_1195 : BitVec 32 := 1#32
  let v1807 : BitVec 32 := Scalar.divsi v1805 c1_i32_1195
  let v1808 : BitVec 32 := Scalar.muli v1807 c1_i32_1195
  let v1809 : BitVec 32 := Scalar.addi v1597 v1808
  let c1_i32_1197 : BitVec 32 := 1#32
  let arg13 : BitVec 32 := Scf.iv v1809 c1_i32_1197 k3_t214
  let v1828 : Index := Scalar.indexCast arg13
  let c0_1206 : Index := 0#32
  ![v1828.toNat, 0]
def k3_off856 (i : grid3.Coords) (v376 : BitVec 32) (v381 : BitVec 32) (k3_t214 : Fin (k3_t214_loop i v376 v381).trips) : Fin 2 → Nat :=
  let c256_i32_1035 : BitVec 32 := 256#32
  let c0_i32_1034 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let c256_i32_1038 : BitVec 32 := 256#32
  let c0_i32_1037 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c768_i32_1036 : BitVec 32 := 768#32
  let v1598 : BitVec 32 := Scalar.subi v384 c768_i32_1036
  let v1599 : BitVec 32 := Scalar.maxsi c0_i32_1037 v1598
  let v1600 : BitVec 32 := Scalar.minsi c256_i32_1038 v1599
  let v1805 : BitVec 32 := Scalar.subi v1600 v1597
  let c1_i32_1195 : BitVec 32 := 1#32
  let v1807 : BitVec 32 := Scalar.divsi v1805 c1_i32_1195
  let v1808 : BitVec 32 := Scalar.muli v1807 c1_i32_1195
  let v1809 : BitVec 32 := Scalar.addi v1597 v1808
  let c1_i32_1197 : BitVec 32 := 1#32
  let arg13 : BitVec 32 := Scf.iv v1809 c1_i32_1197 k3_t214
  let v1832 : Index := Scalar.indexCast arg13
  let c16_1207 : Index := 16#32
  ![v1832.toNat, 16]
def k3_off857 (i : grid3.Coords) (v376 : BitVec 32) (v381 : BitVec 32) (k3_t214 : Fin (k3_t214_loop i v376 v381).trips) : Fin 2 → Nat :=
  let c256_i32_1035 : BitVec 32 := 256#32
  let c0_i32_1034 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let c256_i32_1038 : BitVec 32 := 256#32
  let c0_i32_1037 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c768_i32_1036 : BitVec 32 := 768#32
  let v1598 : BitVec 32 := Scalar.subi v384 c768_i32_1036
  let v1599 : BitVec 32 := Scalar.maxsi c0_i32_1037 v1598
  let v1600 : BitVec 32 := Scalar.minsi c256_i32_1038 v1599
  let v1805 : BitVec 32 := Scalar.subi v1600 v1597
  let c1_i32_1195 : BitVec 32 := 1#32
  let v1807 : BitVec 32 := Scalar.divsi v1805 c1_i32_1195
  let v1808 : BitVec 32 := Scalar.muli v1807 c1_i32_1195
  let v1809 : BitVec 32 := Scalar.addi v1597 v1808
  let c1_i32_1197 : BitVec 32 := 1#32
  let arg13 : BitVec 32 := Scf.iv v1809 c1_i32_1197 k3_t214
  let v1836 : Index := Scalar.indexCast arg13
  let c32_1208 : Index := 32#32
  ![v1836.toNat, 32]
def k3_off858 (i : grid3.Coords) (v376 : BitVec 32) (v381 : BitVec 32) (k3_t214 : Fin (k3_t214_loop i v376 v381).trips) : Fin 2 → Nat :=
  let c256_i32_1035 : BitVec 32 := 256#32
  let c0_i32_1034 : BitVec 32 := 0#32
  let c1024_i32_161 : BitVec 32 := 1024#32
  let c0_i32_160 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v377 : BitVec 32 := Scalar.subi v376 v3
  let v378 : BitVec 32 := Scalar.maxsi c0_i32_160 v377
  let v379 : BitVec 32 := Scalar.minsi c1024_i32_161 v378
  let c768_i32_1033 : BitVec 32 := 768#32
  let v1595 : BitVec 32 := Scalar.subi v379 c768_i32_1033
  let v1596 : BitVec 32 := Scalar.maxsi c0_i32_1034 v1595
  let v1597 : BitVec 32 := Scalar.minsi c256_i32_1035 v1596
  let c256_i32_1038 : BitVec 32 := 256#32
  let c0_i32_1037 : BitVec 32 := 0#32
  let c1024_i32_163 : BitVec 32 := 1024#32
  let c0_i32_162 : BitVec 32 := 0#32
  let v382 : BitVec 32 := Scalar.subi v381 v3
  let v383 : BitVec 32 := Scalar.maxsi c0_i32_162 v382
  let v384 : BitVec 32 := Scalar.minsi c1024_i32_163 v383
  let c768_i32_1036 : BitVec 32 := 768#32
  let v1598 : BitVec 32 := Scalar.subi v384 c768_i32_1036
  let v1599 : BitVec 32 := Scalar.maxsi c0_i32_1037 v1598
  let v1600 : BitVec 32 := Scalar.minsi c256_i32_1038 v1599
  let v1805 : BitVec 32 := Scalar.subi v1600 v1597
  let c1_i32_1195 : BitVec 32 := 1#32
  let v1807 : BitVec 32 := Scalar.divsi v1805 c1_i32_1195
  let v1808 : BitVec 32 := Scalar.muli v1807 c1_i32_1195
  let v1809 : BitVec 32 := Scalar.addi v1597 v1808
  let c1_i32_1197 : BitVec 32 := 1#32
  let arg13 : BitVec 32 := Scf.iv v1809 c1_i32_1197 k3_t214
  let v1840 : Index := Scalar.indexCast arg13
  let c48_1209 : Index := 48#32
  ![v1840.toNat, 48]

def k3_chk11_0 (i : grid3.Coords) (v376 : BitVec 32) (v381 : BitVec 32) : Prop :=
  (∀ (k3_h11 : k3_cond11 i v376 v381 = 1#1), (k3_t21_loop i v376 v381).OK) ∧
  (∀ k3_t21 : Fin (k3_t21_loop i v376 v381).trips, ∀ (k3_h11 : k3_cond11 i v376 v381 = 1#1), ∀ a, (k3_off82 i v376 v381 k3_t21) a + S1x16.size a ≤ S256x128.size a) ∧
  (∀ k3_t21 : Fin (k3_t21_loop i v376 v381).trips, ∀ (k3_h11 : k3_cond11 i v376 v381 = 1#1), ∀ a, (k3_off83 i v376 v381 k3_t21) a + S1x16.size a ≤ S256x128.size a) ∧
  (∀ k3_t21 : Fin (k3_t21_loop i v376 v381).trips, ∀ (k3_h11 : k3_cond11 i v376 v381 = 1#1), ∀ a, (k3_off84 i v376 v381 k3_t21) a + S1x16.size a ≤ S256x128.size a) ∧
  (∀ k3_t21 : Fin (k3_t21_loop i v376 v381).trips, ∀ (k3_h11 : k3_cond11 i v376 v381 = 1#1), ∀ a, (k3_off85 i v376 v381 k3_t21) a + S1x16.size a ≤ S256x128.size a) ∧
  (∀ (k3_h11 : k3_cond11 i v376 v381 = 1#1), (k3_t22_loop i v376 v381).OK) ∧
  (∀ k3_t22 : Fin (k3_t22_loop i v376 v381).trips, ∀ (k3_h11 : k3_cond11 i v376 v381 = 1#1), ∀ a, (k3_off86 i v376 v381 k3_t22) a + S1x16.size a ≤ S256x128.size a) ∧
  (∀ k3_t22 : Fin (k3_t22_loop i v376 v381).trips, ∀ (k3_h11 : k3_cond11 i v376 v381 = 1#1), ∀ a, (k3_off87 i v376 v381 k3_t22) a + S1x16.size a ≤ S256x128.size a) ∧
  (∀ k3_t22 : Fin (k3_t22_loop i v376 v381).trips, ∀ (k3_h11 : k3_cond11 i v376 v381 = 1#1), ∀ a, (k3_off88 i v376 v381 k3_t22) a + S1x16.size a ≤ S256x128.size a) ∧
  (∀ k3_t22 : Fin (k3_t22_loop i v376 v381).trips, ∀ (k3_h11 : k3_cond11 i v376 v381 = 1#1), ∀ a, (k3_off89 i v376 v381 k3_t22) a + S1x16.size a ≤ S256x128.size a) ∧
  (∀ (k3_h43 : k3_cond43 i v376 v381 = 1#1), (k3_t85_loop i v376 v381).OK) ∧
  (∀ k3_t85 : Fin (k3_t85_loop i v376 v381).trips, ∀ (k3_h43 : k3_cond43 i v376 v381 = 1#1), ∀ a, (k3_off339 i v376 v381 k3_t85) a + S1x16.size a ≤ S256x128.size a) ∧
  (∀ k3_t85 : Fin (k3_t85_loop i v376 v381).trips, ∀ (k3_h43 : k3_cond43 i v376 v381 = 1#1), ∀ a, (k3_off340 i v376 v381 k3_t85) a + S1x16.size a ≤ S256x128.size a) ∧
  (∀ k3_t85 : Fin (k3_t85_loop i v376 v381).trips, ∀ (k3_h43 : k3_cond43 i v376 v381 = 1#1), ∀ a, (k3_off341 i v376 v381 k3_t85) a + S1x16.size a ≤ S256x128.size a) ∧
  (∀ k3_t85 : Fin (k3_t85_loop i v376 v381).trips, ∀ (k3_h43 : k3_cond43 i v376 v381 = 1#1), ∀ a, (k3_off342 i v376 v381 k3_t85) a + S1x16.size a ≤ S256x128.size a) ∧
  (∀ (k3_h43 : k3_cond43 i v376 v381 = 1#1), (k3_t86_loop i v376 v381).OK) ∧
  (∀ k3_t86 : Fin (k3_t86_loop i v376 v381).trips, ∀ (k3_h43 : k3_cond43 i v376 v381 = 1#1), ∀ a, (k3_off343 i v376 v381 k3_t86) a + S1x16.size a ≤ S256x128.size a) ∧
  (∀ k3_t86 : Fin (k3_t86_loop i v376 v381).trips, ∀ (k3_h43 : k3_cond43 i v376 v381 = 1#1), ∀ a, (k3_off344 i v376 v381 k3_t86) a + S1x16.size a ≤ S256x128.size a) ∧
  (∀ k3_t86 : Fin (k3_t86_loop i v376 v381).trips, ∀ (k3_h43 : k3_cond43 i v376 v381 = 1#1), ∀ a, (k3_off345 i v376 v381 k3_t86) a + S1x16.size a ≤ S256x128.size a) ∧
  (∀ k3_t86 : Fin (k3_t86_loop i v376 v381).trips, ∀ (k3_h43 : k3_cond43 i v376 v381 = 1#1), ∀ a, (k3_off346 i v376 v381 k3_t86) a + S1x16.size a ≤ S256x128.size a) ∧
  (∀ (k3_h75 : k3_cond75 i v376 v381 = 1#1), (k3_t149_loop i v376 v381).OK) ∧
  (∀ k3_t149 : Fin (k3_t149_loop i v376 v381).trips, ∀ (k3_h75 : k3_cond75 i v376 v381 = 1#1), ∀ a, (k3_off595 i v376 v381 k3_t149) a + S1x16.size a ≤ S256x128.size a) ∧
  (∀ k3_t149 : Fin (k3_t149_loop i v376 v381).trips, ∀ (k3_h75 : k3_cond75 i v376 v381 = 1#1), ∀ a, (k3_off596 i v376 v381 k3_t149) a + S1x16.size a ≤ S256x128.size a) ∧
  (∀ k3_t149 : Fin (k3_t149_loop i v376 v381).trips, ∀ (k3_h75 : k3_cond75 i v376 v381 = 1#1), ∀ a, (k3_off597 i v376 v381 k3_t149) a + S1x16.size a ≤ S256x128.size a) ∧
  (∀ k3_t149 : Fin (k3_t149_loop i v376 v381).trips, ∀ (k3_h75 : k3_cond75 i v376 v381 = 1#1), ∀ a, (k3_off598 i v376 v381 k3_t149) a + S1x16.size a ≤ S256x128.size a) ∧
  (∀ (k3_h75 : k3_cond75 i v376 v381 = 1#1), (k3_t150_loop i v376 v381).OK) ∧
  (∀ k3_t150 : Fin (k3_t150_loop i v376 v381).trips, ∀ (k3_h75 : k3_cond75 i v376 v381 = 1#1), ∀ a, (k3_off599 i v376 v381 k3_t150) a + S1x16.size a ≤ S256x128.size a) ∧
  (∀ k3_t150 : Fin (k3_t150_loop i v376 v381).trips, ∀ (k3_h75 : k3_cond75 i v376 v381 = 1#1), ∀ a, (k3_off600 i v376 v381 k3_t150) a + S1x16.size a ≤ S256x128.size a) ∧
  (∀ k3_t150 : Fin (k3_t150_loop i v376 v381).trips, ∀ (k3_h75 : k3_cond75 i v376 v381 = 1#1), ∀ a, (k3_off601 i v376 v381 k3_t150) a + S1x16.size a ≤ S256x128.size a) ∧
  (∀ k3_t150 : Fin (k3_t150_loop i v376 v381).trips, ∀ (k3_h75 : k3_cond75 i v376 v381 = 1#1), ∀ a, (k3_off602 i v376 v381 k3_t150) a + S1x16.size a ≤ S256x128.size a) ∧
  (∀ (k3_h107 : k3_cond107 i v376 v381 = 1#1), (k3_t213_loop i v376 v381).OK) ∧
  (∀ k3_t213 : Fin (k3_t213_loop i v376 v381).trips, ∀ (k3_h107 : k3_cond107 i v376 v381 = 1#1), ∀ a, (k3_off851 i v376 v381 k3_t213) a + S1x16.size a ≤ S256x128.size a)
def k3_chk11_1 (i : grid3.Coords) (v376 : BitVec 32) (v381 : BitVec 32) : Prop :=
  (∀ k3_t213 : Fin (k3_t213_loop i v376 v381).trips, ∀ (k3_h107 : k3_cond107 i v376 v381 = 1#1), ∀ a, (k3_off852 i v376 v381 k3_t213) a + S1x16.size a ≤ S256x128.size a) ∧
  (∀ k3_t213 : Fin (k3_t213_loop i v376 v381).trips, ∀ (k3_h107 : k3_cond107 i v376 v381 = 1#1), ∀ a, (k3_off853 i v376 v381 k3_t213) a + S1x16.size a ≤ S256x128.size a) ∧
  (∀ k3_t213 : Fin (k3_t213_loop i v376 v381).trips, ∀ (k3_h107 : k3_cond107 i v376 v381 = 1#1), ∀ a, (k3_off854 i v376 v381 k3_t213) a + S1x16.size a ≤ S256x128.size a) ∧
  (∀ (k3_h107 : k3_cond107 i v376 v381 = 1#1), (k3_t214_loop i v376 v381).OK) ∧
  (∀ k3_t214 : Fin (k3_t214_loop i v376 v381).trips, ∀ (k3_h107 : k3_cond107 i v376 v381 = 1#1), ∀ a, (k3_off855 i v376 v381 k3_t214) a + S1x16.size a ≤ S256x128.size a) ∧
  (∀ k3_t214 : Fin (k3_t214_loop i v376 v381).trips, ∀ (k3_h107 : k3_cond107 i v376 v381 = 1#1), ∀ a, (k3_off856 i v376 v381 k3_t214) a + S1x16.size a ≤ S256x128.size a) ∧
  (∀ k3_t214 : Fin (k3_t214_loop i v376 v381).trips, ∀ (k3_h107 : k3_cond107 i v376 v381 = 1#1), ∀ a, (k3_off857 i v376 v381 k3_t214) a + S1x16.size a ≤ S256x128.size a) ∧
  (∀ k3_t214 : Fin (k3_t214_loop i v376 v381).trips, ∀ (k3_h107 : k3_cond107 i v376 v381 = 1#1), ∀ a, (k3_off858 i v376 v381 k3_t214) a + S1x16.size a ≤ S256x128.size a)
def k3_chk11 (i : grid3.Coords) (v376 : BitVec 32) (v381 : BitVec 32) : Prop :=
  k3_chk11_0 i v376 v381 ∧
  k3_chk11_1 i v376 v381
theorem k3_t21_ok : ∀ (i : grid3.Coords) (v376 : BitVec 32) (v381 : BitVec 32) (k3_hw11 : k3_chk11 i v376 v381), ∀ (k3_h11 : k3_cond11 i v376 v381 = 1#1), (k3_t21_loop i v376 v381).OK := fun i v376 v381 k3_hw11 k3_h11 => k3_hw11.1.1 k3_h11
theorem k3_off82_inb : ∀ (i : grid3.Coords) (v376 : BitVec 32) (v381 : BitVec 32) (k3_hw11 : k3_chk11 i v376 v381) (k3_t21 : Fin (k3_t21_loop i v376 v381).trips), ∀ (k3_h11 : k3_cond11 i v376 v381 = 1#1), ∀ a, (k3_off82 i v376 v381 k3_t21) a + S1x16.size a ≤ S256x128.size a := fun i v376 v381 k3_hw11 k3_t21 k3_h11 => k3_hw11.1.2.1 k3_t21 k3_h11
theorem k3_off83_inb : ∀ (i : grid3.Coords) (v376 : BitVec 32) (v381 : BitVec 32) (k3_hw11 : k3_chk11 i v376 v381) (k3_t21 : Fin (k3_t21_loop i v376 v381).trips), ∀ (k3_h11 : k3_cond11 i v376 v381 = 1#1), ∀ a, (k3_off83 i v376 v381 k3_t21) a + S1x16.size a ≤ S256x128.size a := fun i v376 v381 k3_hw11 k3_t21 k3_h11 => k3_hw11.1.2.2.1 k3_t21 k3_h11
theorem k3_off84_inb : ∀ (i : grid3.Coords) (v376 : BitVec 32) (v381 : BitVec 32) (k3_hw11 : k3_chk11 i v376 v381) (k3_t21 : Fin (k3_t21_loop i v376 v381).trips), ∀ (k3_h11 : k3_cond11 i v376 v381 = 1#1), ∀ a, (k3_off84 i v376 v381 k3_t21) a + S1x16.size a ≤ S256x128.size a := fun i v376 v381 k3_hw11 k3_t21 k3_h11 => k3_hw11.1.2.2.2.1 k3_t21 k3_h11
theorem k3_off85_inb : ∀ (i : grid3.Coords) (v376 : BitVec 32) (v381 : BitVec 32) (k3_hw11 : k3_chk11 i v376 v381) (k3_t21 : Fin (k3_t21_loop i v376 v381).trips), ∀ (k3_h11 : k3_cond11 i v376 v381 = 1#1), ∀ a, (k3_off85 i v376 v381 k3_t21) a + S1x16.size a ≤ S256x128.size a := fun i v376 v381 k3_hw11 k3_t21 k3_h11 => k3_hw11.1.2.2.2.2.1 k3_t21 k3_h11
theorem k3_t22_ok : ∀ (i : grid3.Coords) (v376 : BitVec 32) (v381 : BitVec 32) (k3_hw11 : k3_chk11 i v376 v381), ∀ (k3_h11 : k3_cond11 i v376 v381 = 1#1), (k3_t22_loop i v376 v381).OK := fun i v376 v381 k3_hw11 k3_h11 => k3_hw11.1.2.2.2.2.2.1 k3_h11
theorem k3_off86_inb : ∀ (i : grid3.Coords) (v376 : BitVec 32) (v381 : BitVec 32) (k3_hw11 : k3_chk11 i v376 v381) (k3_t22 : Fin (k3_t22_loop i v376 v381).trips), ∀ (k3_h11 : k3_cond11 i v376 v381 = 1#1), ∀ a, (k3_off86 i v376 v381 k3_t22) a + S1x16.size a ≤ S256x128.size a := fun i v376 v381 k3_hw11 k3_t22 k3_h11 => k3_hw11.1.2.2.2.2.2.2.1 k3_t22 k3_h11
theorem k3_off87_inb : ∀ (i : grid3.Coords) (v376 : BitVec 32) (v381 : BitVec 32) (k3_hw11 : k3_chk11 i v376 v381) (k3_t22 : Fin (k3_t22_loop i v376 v381).trips), ∀ (k3_h11 : k3_cond11 i v376 v381 = 1#1), ∀ a, (k3_off87 i v376 v381 k3_t22) a + S1x16.size a ≤ S256x128.size a := fun i v376 v381 k3_hw11 k3_t22 k3_h11 => k3_hw11.1.2.2.2.2.2.2.2.1 k3_t22 k3_h11
theorem k3_off88_inb : ∀ (i : grid3.Coords) (v376 : BitVec 32) (v381 : BitVec 32) (k3_hw11 : k3_chk11 i v376 v381) (k3_t22 : Fin (k3_t22_loop i v376 v381).trips), ∀ (k3_h11 : k3_cond11 i v376 v381 = 1#1), ∀ a, (k3_off88 i v376 v381 k3_t22) a + S1x16.size a ≤ S256x128.size a := fun i v376 v381 k3_hw11 k3_t22 k3_h11 => k3_hw11.1.2.2.2.2.2.2.2.2.1 k3_t22 k3_h11
theorem k3_off89_inb : ∀ (i : grid3.Coords) (v376 : BitVec 32) (v381 : BitVec 32) (k3_hw11 : k3_chk11 i v376 v381) (k3_t22 : Fin (k3_t22_loop i v376 v381).trips), ∀ (k3_h11 : k3_cond11 i v376 v381 = 1#1), ∀ a, (k3_off89 i v376 v381 k3_t22) a + S1x16.size a ≤ S256x128.size a := fun i v376 v381 k3_hw11 k3_t22 k3_h11 => k3_hw11.1.2.2.2.2.2.2.2.2.2.1 k3_t22 k3_h11
theorem k3_t85_ok : ∀ (i : grid3.Coords) (v376 : BitVec 32) (v381 : BitVec 32) (k3_hw11 : k3_chk11 i v376 v381), ∀ (k3_h43 : k3_cond43 i v376 v381 = 1#1), (k3_t85_loop i v376 v381).OK := fun i v376 v381 k3_hw11 k3_h43 => k3_hw11.1.2.2.2.2.2.2.2.2.2.2.1 k3_h43
theorem k3_off339_inb : ∀ (i : grid3.Coords) (v376 : BitVec 32) (v381 : BitVec 32) (k3_hw11 : k3_chk11 i v376 v381) (k3_t85 : Fin (k3_t85_loop i v376 v381).trips), ∀ (k3_h43 : k3_cond43 i v376 v381 = 1#1), ∀ a, (k3_off339 i v376 v381 k3_t85) a + S1x16.size a ≤ S256x128.size a := fun i v376 v381 k3_hw11 k3_t85 k3_h43 => k3_hw11.1.2.2.2.2.2.2.2.2.2.2.2.1 k3_t85 k3_h43
theorem k3_off340_inb : ∀ (i : grid3.Coords) (v376 : BitVec 32) (v381 : BitVec 32) (k3_hw11 : k3_chk11 i v376 v381) (k3_t85 : Fin (k3_t85_loop i v376 v381).trips), ∀ (k3_h43 : k3_cond43 i v376 v381 = 1#1), ∀ a, (k3_off340 i v376 v381 k3_t85) a + S1x16.size a ≤ S256x128.size a := fun i v376 v381 k3_hw11 k3_t85 k3_h43 => k3_hw11.1.2.2.2.2.2.2.2.2.2.2.2.2.1 k3_t85 k3_h43
theorem k3_off341_inb : ∀ (i : grid3.Coords) (v376 : BitVec 32) (v381 : BitVec 32) (k3_hw11 : k3_chk11 i v376 v381) (k3_t85 : Fin (k3_t85_loop i v376 v381).trips), ∀ (k3_h43 : k3_cond43 i v376 v381 = 1#1), ∀ a, (k3_off341 i v376 v381 k3_t85) a + S1x16.size a ≤ S256x128.size a := fun i v376 v381 k3_hw11 k3_t85 k3_h43 => k3_hw11.1.2.2.2.2.2.2.2.2.2.2.2.2.2.1 k3_t85 k3_h43
theorem k3_off342_inb : ∀ (i : grid3.Coords) (v376 : BitVec 32) (v381 : BitVec 32) (k3_hw11 : k3_chk11 i v376 v381) (k3_t85 : Fin (k3_t85_loop i v376 v381).trips), ∀ (k3_h43 : k3_cond43 i v376 v381 = 1#1), ∀ a, (k3_off342 i v376 v381 k3_t85) a + S1x16.size a ≤ S256x128.size a := fun i v376 v381 k3_hw11 k3_t85 k3_h43 => k3_hw11.1.2.2.2.2.2.2.2.2.2.2.2.2.2.2.1 k3_t85 k3_h43
theorem k3_t86_ok : ∀ (i : grid3.Coords) (v376 : BitVec 32) (v381 : BitVec 32) (k3_hw11 : k3_chk11 i v376 v381), ∀ (k3_h43 : k3_cond43 i v376 v381 = 1#1), (k3_t86_loop i v376 v381).OK := fun i v376 v381 k3_hw11 k3_h43 => k3_hw11.1.2.2.2.2.2.2.2.2.2.2.2.2.2.2.2.1 k3_h43
theorem k3_off343_inb : ∀ (i : grid3.Coords) (v376 : BitVec 32) (v381 : BitVec 32) (k3_hw11 : k3_chk11 i v376 v381) (k3_t86 : Fin (k3_t86_loop i v376 v381).trips), ∀ (k3_h43 : k3_cond43 i v376 v381 = 1#1), ∀ a, (k3_off343 i v376 v381 k3_t86) a + S1x16.size a ≤ S256x128.size a := fun i v376 v381 k3_hw11 k3_t86 k3_h43 => k3_hw11.1.2.2.2.2.2.2.2.2.2.2.2.2.2.2.2.2.1 k3_t86 k3_h43
theorem k3_off344_inb : ∀ (i : grid3.Coords) (v376 : BitVec 32) (v381 : BitVec 32) (k3_hw11 : k3_chk11 i v376 v381) (k3_t86 : Fin (k3_t86_loop i v376 v381).trips), ∀ (k3_h43 : k3_cond43 i v376 v381 = 1#1), ∀ a, (k3_off344 i v376 v381 k3_t86) a + S1x16.size a ≤ S256x128.size a := fun i v376 v381 k3_hw11 k3_t86 k3_h43 => k3_hw11.1.2.2.2.2.2.2.2.2.2.2.2.2.2.2.2.2.2.1 k3_t86 k3_h43
theorem k3_off345_inb : ∀ (i : grid3.Coords) (v376 : BitVec 32) (v381 : BitVec 32) (k3_hw11 : k3_chk11 i v376 v381) (k3_t86 : Fin (k3_t86_loop i v376 v381).trips), ∀ (k3_h43 : k3_cond43 i v376 v381 = 1#1), ∀ a, (k3_off345 i v376 v381 k3_t86) a + S1x16.size a ≤ S256x128.size a := fun i v376 v381 k3_hw11 k3_t86 k3_h43 => k3_hw11.1.2.2.2.2.2.2.2.2.2.2.2.2.2.2.2.2.2.2.1 k3_t86 k3_h43
theorem k3_off346_inb : ∀ (i : grid3.Coords) (v376 : BitVec 32) (v381 : BitVec 32) (k3_hw11 : k3_chk11 i v376 v381) (k3_t86 : Fin (k3_t86_loop i v376 v381).trips), ∀ (k3_h43 : k3_cond43 i v376 v381 = 1#1), ∀ a, (k3_off346 i v376 v381 k3_t86) a + S1x16.size a ≤ S256x128.size a := fun i v376 v381 k3_hw11 k3_t86 k3_h43 => k3_hw11.1.2.2.2.2.2.2.2.2.2.2.2.2.2.2.2.2.2.2.2.1 k3_t86 k3_h43
theorem k3_t149_ok : ∀ (i : grid3.Coords) (v376 : BitVec 32) (v381 : BitVec 32) (k3_hw11 : k3_chk11 i v376 v381), ∀ (k3_h75 : k3_cond75 i v376 v381 = 1#1), (k3_t149_loop i v376 v381).OK := fun i v376 v381 k3_hw11 k3_h75 => k3_hw11.1.2.2.2.2.2.2.2.2.2.2.2.2.2.2.2.2.2.2.2.2.1 k3_h75
theorem k3_off595_inb : ∀ (i : grid3.Coords) (v376 : BitVec 32) (v381 : BitVec 32) (k3_hw11 : k3_chk11 i v376 v381) (k3_t149 : Fin (k3_t149_loop i v376 v381).trips), ∀ (k3_h75 : k3_cond75 i v376 v381 = 1#1), ∀ a, (k3_off595 i v376 v381 k3_t149) a + S1x16.size a ≤ S256x128.size a := fun i v376 v381 k3_hw11 k3_t149 k3_h75 => k3_hw11.1.2.2.2.2.2.2.2.2.2.2.2.2.2.2.2.2.2.2.2.2.2.1 k3_t149 k3_h75
theorem k3_off596_inb : ∀ (i : grid3.Coords) (v376 : BitVec 32) (v381 : BitVec 32) (k3_hw11 : k3_chk11 i v376 v381) (k3_t149 : Fin (k3_t149_loop i v376 v381).trips), ∀ (k3_h75 : k3_cond75 i v376 v381 = 1#1), ∀ a, (k3_off596 i v376 v381 k3_t149) a + S1x16.size a ≤ S256x128.size a := fun i v376 v381 k3_hw11 k3_t149 k3_h75 => k3_hw11.1.2.2.2.2.2.2.2.2.2.2.2.2.2.2.2.2.2.2.2.2.2.2.1 k3_t149 k3_h75
theorem k3_off597_inb : ∀ (i : grid3.Coords) (v376 : BitVec 32) (v381 : BitVec 32) (k3_hw11 : k3_chk11 i v376 v381) (k3_t149 : Fin (k3_t149_loop i v376 v381).trips), ∀ (k3_h75 : k3_cond75 i v376 v381 = 1#1), ∀ a, (k3_off597 i v376 v381 k3_t149) a + S1x16.size a ≤ S256x128.size a := fun i v376 v381 k3_hw11 k3_t149 k3_h75 => k3_hw11.1.2.2.2.2.2.2.2.2.2.2.2.2.2.2.2.2.2.2.2.2.2.2.2.1 k3_t149 k3_h75
theorem k3_off598_inb : ∀ (i : grid3.Coords) (v376 : BitVec 32) (v381 : BitVec 32) (k3_hw11 : k3_chk11 i v376 v381) (k3_t149 : Fin (k3_t149_loop i v376 v381).trips), ∀ (k3_h75 : k3_cond75 i v376 v381 = 1#1), ∀ a, (k3_off598 i v376 v381 k3_t149) a + S1x16.size a ≤ S256x128.size a := fun i v376 v381 k3_hw11 k3_t149 k3_h75 => k3_hw11.1.2.2.2.2.2.2.2.2.2.2.2.2.2.2.2.2.2.2.2.2.2.2.2.2.1 k3_t149 k3_h75
theorem k3_t150_ok : ∀ (i : grid3.Coords) (v376 : BitVec 32) (v381 : BitVec 32) (k3_hw11 : k3_chk11 i v376 v381), ∀ (k3_h75 : k3_cond75 i v376 v381 = 1#1), (k3_t150_loop i v376 v381).OK := fun i v376 v381 k3_hw11 k3_h75 => k3_hw11.1.2.2.2.2.2.2.2.2.2.2.2.2.2.2.2.2.2.2.2.2.2.2.2.2.2.1 k3_h75
theorem k3_off599_inb : ∀ (i : grid3.Coords) (v376 : BitVec 32) (v381 : BitVec 32) (k3_hw11 : k3_chk11 i v376 v381) (k3_t150 : Fin (k3_t150_loop i v376 v381).trips), ∀ (k3_h75 : k3_cond75 i v376 v381 = 1#1), ∀ a, (k3_off599 i v376 v381 k3_t150) a + S1x16.size a ≤ S256x128.size a := fun i v376 v381 k3_hw11 k3_t150 k3_h75 => k3_hw11.1.2.2.2.2.2.2.2.2.2.2.2.2.2.2.2.2.2.2.2.2.2.2.2.2.2.2.1 k3_t150 k3_h75
theorem k3_off600_inb : ∀ (i : grid3.Coords) (v376 : BitVec 32) (v381 : BitVec 32) (k3_hw11 : k3_chk11 i v376 v381) (k3_t150 : Fin (k3_t150_loop i v376 v381).trips), ∀ (k3_h75 : k3_cond75 i v376 v381 = 1#1), ∀ a, (k3_off600 i v376 v381 k3_t150) a + S1x16.size a ≤ S256x128.size a := fun i v376 v381 k3_hw11 k3_t150 k3_h75 => k3_hw11.1.2.2.2.2.2.2.2.2.2.2.2.2.2.2.2.2.2.2.2.2.2.2.2.2.2.2.2.1 k3_t150 k3_h75
theorem k3_off601_inb : ∀ (i : grid3.Coords) (v376 : BitVec 32) (v381 : BitVec 32) (k3_hw11 : k3_chk11 i v376 v381) (k3_t150 : Fin (k3_t150_loop i v376 v381).trips), ∀ (k3_h75 : k3_cond75 i v376 v381 = 1#1), ∀ a, (k3_off601 i v376 v381 k3_t150) a + S1x16.size a ≤ S256x128.size a := fun i v376 v381 k3_hw11 k3_t150 k3_h75 => k3_hw11.1.2.2.2.2.2.2.2.2.2.2.2.2.2.2.2.2.2.2.2.2.2.2.2.2.2.2.2.2.1 k3_t150 k3_h75
theorem k3_off602_inb : ∀ (i : grid3.Coords) (v376 : BitVec 32) (v381 : BitVec 32) (k3_hw11 : k3_chk11 i v376 v381) (k3_t150 : Fin (k3_t150_loop i v376 v381).trips), ∀ (k3_h75 : k3_cond75 i v376 v381 = 1#1), ∀ a, (k3_off602 i v376 v381 k3_t150) a + S1x16.size a ≤ S256x128.size a := fun i v376 v381 k3_hw11 k3_t150 k3_h75 => k3_hw11.1.2.2.2.2.2.2.2.2.2.2.2.2.2.2.2.2.2.2.2.2.2.2.2.2.2.2.2.2.2.1 k3_t150 k3_h75
theorem k3_t213_ok : ∀ (i : grid3.Coords) (v376 : BitVec 32) (v381 : BitVec 32) (k3_hw11 : k3_chk11 i v376 v381), ∀ (k3_h107 : k3_cond107 i v376 v381 = 1#1), (k3_t213_loop i v376 v381).OK := fun i v376 v381 k3_hw11 k3_h107 => k3_hw11.1.2.2.2.2.2.2.2.2.2.2.2.2.2.2.2.2.2.2.2.2.2.2.2.2.2.2.2.2.2.2.1 k3_h107
theorem k3_off851_inb : ∀ (i : grid3.Coords) (v376 : BitVec 32) (v381 : BitVec 32) (k3_hw11 : k3_chk11 i v376 v381) (k3_t213 : Fin (k3_t213_loop i v376 v381).trips), ∀ (k3_h107 : k3_cond107 i v376 v381 = 1#1), ∀ a, (k3_off851 i v376 v381 k3_t213) a + S1x16.size a ≤ S256x128.size a := fun i v376 v381 k3_hw11 k3_t213 k3_h107 => k3_hw11.1.2.2.2.2.2.2.2.2.2.2.2.2.2.2.2.2.2.2.2.2.2.2.2.2.2.2.2.2.2.2.2 k3_t213 k3_h107
theorem k3_off852_inb : ∀ (i : grid3.Coords) (v376 : BitVec 32) (v381 : BitVec 32) (k3_hw11 : k3_chk11 i v376 v381) (k3_t213 : Fin (k3_t213_loop i v376 v381).trips), ∀ (k3_h107 : k3_cond107 i v376 v381 = 1#1), ∀ a, (k3_off852 i v376 v381 k3_t213) a + S1x16.size a ≤ S256x128.size a := fun i v376 v381 k3_hw11 k3_t213 k3_h107 => k3_hw11.2.1 k3_t213 k3_h107
theorem k3_off853_inb : ∀ (i : grid3.Coords) (v376 : BitVec 32) (v381 : BitVec 32) (k3_hw11 : k3_chk11 i v376 v381) (k3_t213 : Fin (k3_t213_loop i v376 v381).trips), ∀ (k3_h107 : k3_cond107 i v376 v381 = 1#1), ∀ a, (k3_off853 i v376 v381 k3_t213) a + S1x16.size a ≤ S256x128.size a := fun i v376 v381 k3_hw11 k3_t213 k3_h107 => k3_hw11.2.2.1 k3_t213 k3_h107
theorem k3_off854_inb : ∀ (i : grid3.Coords) (v376 : BitVec 32) (v381 : BitVec 32) (k3_hw11 : k3_chk11 i v376 v381) (k3_t213 : Fin (k3_t213_loop i v376 v381).trips), ∀ (k3_h107 : k3_cond107 i v376 v381 = 1#1), ∀ a, (k3_off854 i v376 v381 k3_t213) a + S1x16.size a ≤ S256x128.size a := fun i v376 v381 k3_hw11 k3_t213 k3_h107 => k3_hw11.2.2.2.1 k3_t213 k3_h107
theorem k3_t214_ok : ∀ (i : grid3.Coords) (v376 : BitVec 32) (v381 : BitVec 32) (k3_hw11 : k3_chk11 i v376 v381), ∀ (k3_h107 : k3_cond107 i v376 v381 = 1#1), (k3_t214_loop i v376 v381).OK := fun i v376 v381 k3_hw11 k3_h107 => k3_hw11.2.2.2.2.1 k3_h107
theorem k3_off855_inb : ∀ (i : grid3.Coords) (v376 : BitVec 32) (v381 : BitVec 32) (k3_hw11 : k3_chk11 i v376 v381) (k3_t214 : Fin (k3_t214_loop i v376 v381).trips), ∀ (k3_h107 : k3_cond107 i v376 v381 = 1#1), ∀ a, (k3_off855 i v376 v381 k3_t214) a + S1x16.size a ≤ S256x128.size a := fun i v376 v381 k3_hw11 k3_t214 k3_h107 => k3_hw11.2.2.2.2.2.1 k3_t214 k3_h107
theorem k3_off856_inb : ∀ (i : grid3.Coords) (v376 : BitVec 32) (v381 : BitVec 32) (k3_hw11 : k3_chk11 i v376 v381) (k3_t214 : Fin (k3_t214_loop i v376 v381).trips), ∀ (k3_h107 : k3_cond107 i v376 v381 = 1#1), ∀ a, (k3_off856 i v376 v381 k3_t214) a + S1x16.size a ≤ S256x128.size a := fun i v376 v381 k3_hw11 k3_t214 k3_h107 => k3_hw11.2.2.2.2.2.2.1 k3_t214 k3_h107
theorem k3_off857_inb : ∀ (i : grid3.Coords) (v376 : BitVec 32) (v381 : BitVec 32) (k3_hw11 : k3_chk11 i v376 v381) (k3_t214 : Fin (k3_t214_loop i v376 v381).trips), ∀ (k3_h107 : k3_cond107 i v376 v381 = 1#1), ∀ a, (k3_off857 i v376 v381 k3_t214) a + S1x16.size a ≤ S256x128.size a := fun i v376 v381 k3_hw11 k3_t214 k3_h107 => k3_hw11.2.2.2.2.2.2.2.1 k3_t214 k3_h107
theorem k3_off858_inb : ∀ (i : grid3.Coords) (v376 : BitVec 32) (v381 : BitVec 32) (k3_hw11 : k3_chk11 i v376 v381) (k3_t214 : Fin (k3_t214_loop i v376 v381).trips), ∀ (k3_h107 : k3_cond107 i v376 v381 = 1#1), ∀ a, (k3_off858 i v376 v381 k3_t214) a + S1x16.size a ≤ S256x128.size a := fun i v376 v381 k3_hw11 k3_t214 k3_h107 => k3_hw11.2.2.2.2.2.2.2.2 k3_t214 k3_h107

@[reducible] def k3_t215_loop (i : grid3.Coords) (v386 : BitVec 32) (v392 : BitVec 32) : Scf.Loop 32 :=
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let c256_i32_1045 : BitVec 32 := 256#32
  let c0_i32_1044 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c768_i32_1043 : BitVec 32 := 768#32
  let v1607 : BitVec 32 := Scalar.subi v396 c768_i32_1043
  let v1608 : BitVec 32 := Scalar.maxsi c0_i32_1044 v1607
  let v1609 : BitVec 32 := Scalar.minsi c256_i32_1045 v1608
  let v1805 : BitVec 32 := Scalar.subi v1609 v1606
  let c1_i32_1195 : BitVec 32 := 1#32
  let v1807 : BitVec 32 := Scalar.divsi v1805 c1_i32_1195
  let v1808 : BitVec 32 := Scalar.muli v1807 c1_i32_1195
  let v1809 : BitVec 32 := Scalar.addi v1606 v1808
  let c1_i32_1196 : BitVec 32 := 1#32
  ⟨v1606, v1809, c1_i32_1196⟩
def k3_cond108 (i : grid3.Coords) (v386 : BitVec 32) (v392 : BitVec 32) : BitVec 1 :=
  let c256_i32_1045 : BitVec 32 := 256#32
  let c0_i32_1044 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v394 : BitVec 32 := Scalar.subi v393 v3
  let v395 : BitVec 32 := Scalar.maxsi c0_i32_168 v394
  let v396 : BitVec 32 := Scalar.minsi c1024_i32_169 v395
  let c768_i32_1043 : BitVec 32 := 768#32
  let v1607 : BitVec 32 := Scalar.subi v396 c768_i32_1043
  let v1608 : BitVec 32 := Scalar.maxsi c0_i32_1044 v1607
  let v1609 : BitVec 32 := Scalar.minsi c256_i32_1045 v1608
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let v1610 : BitVec 1 := Scalar.cmpi .sgt v1609 v1606
  let v1611 : BitVec 32 := Scalar.extui v1610
  let c0_i32_1046 : BitVec 32 := 0#32
  let v1612 : BitVec 1 := Scalar.cmpi .ne v1611 c0_i32_1046
  v1612

def k3_off859 (i : grid3.Coords) (v386 : BitVec 32) (v392 : BitVec 32) (k3_t215 : Fin (k3_t215_loop i v386 v392).trips) : Fin 2 → Nat :=
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let c1_i32_1196 : BitVec 32 := 1#32
  let arg13 : BitVec 32 := Scf.iv v1606 c1_i32_1196 k3_t215
  let v1828 : Index := Scalar.indexCast arg13
  let c64 : Index := 64#32
  ![v1828.toNat, 64]
def k3_off860 (i : grid3.Coords) (v386 : BitVec 32) (v392 : BitVec 32) (k3_t215 : Fin (k3_t215_loop i v386 v392).trips) : Fin 2 → Nat :=
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let c1_i32_1196 : BitVec 32 := 1#32
  let arg13 : BitVec 32 := Scf.iv v1606 c1_i32_1196 k3_t215
  let v1832 : Index := Scalar.indexCast arg13
  let c80 : Index := 80#32
  ![v1832.toNat, 80]
def k3_off861 (i : grid3.Coords) (v386 : BitVec 32) (v392 : BitVec 32) (k3_t215 : Fin (k3_t215_loop i v386 v392).trips) : Fin 2 → Nat :=
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let c1_i32_1196 : BitVec 32 := 1#32
  let arg13 : BitVec 32 := Scf.iv v1606 c1_i32_1196 k3_t215
  let v1836 : Index := Scalar.indexCast arg13
  let c96 : Index := 96#32
  ![v1836.toNat, 96]
def k3_off862 (i : grid3.Coords) (v386 : BitVec 32) (v392 : BitVec 32) (k3_t215 : Fin (k3_t215_loop i v386 v392).trips) : Fin 2 → Nat :=
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let c1_i32_1196 : BitVec 32 := 1#32
  let arg13 : BitVec 32 := Scf.iv v1606 c1_i32_1196 k3_t215
  let v1840 : Index := Scalar.indexCast arg13
  let c112 : Index := 112#32
  ![v1840.toNat, 112]
@[reducible] def k3_t216_loop (i : grid3.Coords) (v386 : BitVec 32) (v392 : BitVec 32) : Scf.Loop 32 :=
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let c256_i32_1045 : BitVec 32 := 256#32
  let c0_i32_1044 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c768_i32_1043 : BitVec 32 := 768#32
  let v1607 : BitVec 32 := Scalar.subi v396 c768_i32_1043
  let v1608 : BitVec 32 := Scalar.maxsi c0_i32_1044 v1607
  let v1609 : BitVec 32 := Scalar.minsi c256_i32_1045 v1608
  let v1805 : BitVec 32 := Scalar.subi v1609 v1606
  let c1_i32_1195 : BitVec 32 := 1#32
  let v1807 : BitVec 32 := Scalar.divsi v1805 c1_i32_1195
  let v1808 : BitVec 32 := Scalar.muli v1807 c1_i32_1195
  let v1809 : BitVec 32 := Scalar.addi v1606 v1808
  let v1806 : BitVec 32 := Scalar.addi v1606 v1805
  let c1_i32_1197 : BitVec 32 := 1#32
  ⟨v1809, v1806, c1_i32_1197⟩
def k3_off863 (i : grid3.Coords) (v386 : BitVec 32) (v392 : BitVec 32) (k3_t216 : Fin (k3_t216_loop i v386 v392).trips) : Fin 2 → Nat :=
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let c256_i32_1045 : BitVec 32 := 256#32
  let c0_i32_1044 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c768_i32_1043 : BitVec 32 := 768#32
  let v1607 : BitVec 32 := Scalar.subi v396 c768_i32_1043
  let v1608 : BitVec 32 := Scalar.maxsi c0_i32_1044 v1607
  let v1609 : BitVec 32 := Scalar.minsi c256_i32_1045 v1608
  let v1805 : BitVec 32 := Scalar.subi v1609 v1606
  let c1_i32_1195 : BitVec 32 := 1#32
  let v1807 : BitVec 32 := Scalar.divsi v1805 c1_i32_1195
  let v1808 : BitVec 32 := Scalar.muli v1807 c1_i32_1195
  let v1809 : BitVec 32 := Scalar.addi v1606 v1808
  let c1_i32_1197 : BitVec 32 := 1#32
  let arg13 : BitVec 32 := Scf.iv v1809 c1_i32_1197 k3_t216
  let v1828 : Index := Scalar.indexCast arg13
  let c64 : Index := 64#32
  ![v1828.toNat, 64]
def k3_off864 (i : grid3.Coords) (v386 : BitVec 32) (v392 : BitVec 32) (k3_t216 : Fin (k3_t216_loop i v386 v392).trips) : Fin 2 → Nat :=
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let c256_i32_1045 : BitVec 32 := 256#32
  let c0_i32_1044 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c768_i32_1043 : BitVec 32 := 768#32
  let v1607 : BitVec 32 := Scalar.subi v396 c768_i32_1043
  let v1608 : BitVec 32 := Scalar.maxsi c0_i32_1044 v1607
  let v1609 : BitVec 32 := Scalar.minsi c256_i32_1045 v1608
  let v1805 : BitVec 32 := Scalar.subi v1609 v1606
  let c1_i32_1195 : BitVec 32 := 1#32
  let v1807 : BitVec 32 := Scalar.divsi v1805 c1_i32_1195
  let v1808 : BitVec 32 := Scalar.muli v1807 c1_i32_1195
  let v1809 : BitVec 32 := Scalar.addi v1606 v1808
  let c1_i32_1197 : BitVec 32 := 1#32
  let arg13 : BitVec 32 := Scf.iv v1809 c1_i32_1197 k3_t216
  let v1832 : Index := Scalar.indexCast arg13
  let c80 : Index := 80#32
  ![v1832.toNat, 80]
def k3_off865 (i : grid3.Coords) (v386 : BitVec 32) (v392 : BitVec 32) (k3_t216 : Fin (k3_t216_loop i v386 v392).trips) : Fin 2 → Nat :=
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let c256_i32_1045 : BitVec 32 := 256#32
  let c0_i32_1044 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c768_i32_1043 : BitVec 32 := 768#32
  let v1607 : BitVec 32 := Scalar.subi v396 c768_i32_1043
  let v1608 : BitVec 32 := Scalar.maxsi c0_i32_1044 v1607
  let v1609 : BitVec 32 := Scalar.minsi c256_i32_1045 v1608
  let v1805 : BitVec 32 := Scalar.subi v1609 v1606
  let c1_i32_1195 : BitVec 32 := 1#32
  let v1807 : BitVec 32 := Scalar.divsi v1805 c1_i32_1195
  let v1808 : BitVec 32 := Scalar.muli v1807 c1_i32_1195
  let v1809 : BitVec 32 := Scalar.addi v1606 v1808
  let c1_i32_1197 : BitVec 32 := 1#32
  let arg13 : BitVec 32 := Scf.iv v1809 c1_i32_1197 k3_t216
  let v1836 : Index := Scalar.indexCast arg13
  let c96 : Index := 96#32
  ![v1836.toNat, 96]
def k3_off866 (i : grid3.Coords) (v386 : BitVec 32) (v392 : BitVec 32) (k3_t216 : Fin (k3_t216_loop i v386 v392).trips) : Fin 2 → Nat :=
  let c256_i32_1042 : BitVec 32 := 256#32
  let c0_i32_1041 : BitVec 32 := 0#32
  let c1024_i32_166 : BitVec 32 := 1024#32
  let c0_i32_165 : BitVec 32 := 0#32
  let c65536_i32_164 : BitVec 32 := 65536#32
  let v387 : BitVec 32 := Scalar.subi v386 c65536_i32_164
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v388 : BitVec 32 := Scalar.subi v387 v3
  let v389 : BitVec 32 := Scalar.maxsi c0_i32_165 v388
  let v390 : BitVec 32 := Scalar.minsi c1024_i32_166 v389
  let c768_i32_1040 : BitVec 32 := 768#32
  let v1604 : BitVec 32 := Scalar.subi v390 c768_i32_1040
  let v1605 : BitVec 32 := Scalar.maxsi c0_i32_1041 v1604
  let v1606 : BitVec 32 := Scalar.minsi c256_i32_1042 v1605
  let c256_i32_1045 : BitVec 32 := 256#32
  let c0_i32_1044 : BitVec 32 := 0#32
  let c1024_i32_169 : BitVec 32 := 1024#32
  let c0_i32_168 : BitVec 32 := 0#32
  let c65536_i32_167 : BitVec 32 := 65536#32
  let v393 : BitVec 32 := Scalar.subi v392 c65536_i32_167
  let v394 : BitVec 32 := Scalar.subi v393 v3
  let v395 : BitVec 32 := Scalar.maxsi c0_i32_168 v394
  let v396 : BitVec 32 := Scalar.minsi c1024_i32_169 v395
  let c768_i32_1043 : BitVec 32 := 768#32
  let v1607 : BitVec 32 := Scalar.subi v396 c768_i32_1043
  let v1608 : BitVec 32 := Scalar.maxsi c0_i32_1044 v1607
  let v1609 : BitVec 32 := Scalar.minsi c256_i32_1045 v1608
  let v1805 : BitVec 32 := Scalar.subi v1609 v1606
  let c1_i32_1195 : BitVec 32 := 1#32
  let v1807 : BitVec 32 := Scalar.divsi v1805 c1_i32_1195
  let v1808 : BitVec 32 := Scalar.muli v1807 c1_i32_1195
  let v1809 : BitVec 32 := Scalar.addi v1606 v1808
  let c1_i32_1197 : BitVec 32 := 1#32
  let arg13 : BitVec 32 := Scf.iv v1809 c1_i32_1197 k3_t216
  let v1840 : Index := Scalar.indexCast arg13
  let c112 : Index := 112#32
  ![v1840.toNat, 112]

def k3_chk12_0 (i : grid3.Coords) (v386 : BitVec 32) (v392 : BitVec 32) : Prop :=
  (∀ (k3_h12 : k3_cond12 i v386 v392 = 1#1), (k3_t23_loop i v386 v392).OK) ∧
  (∀ k3_t23 : Fin (k3_t23_loop i v386 v392).trips, ∀ (k3_h12 : k3_cond12 i v386 v392 = 1#1), ∀ a, (k3_off90 i v386 v392 k3_t23) a + S1x16.size a ≤ S256x128.size a) ∧
  (∀ k3_t23 : Fin (k3_t23_loop i v386 v392).trips, ∀ (k3_h12 : k3_cond12 i v386 v392 = 1#1), ∀ a, (k3_off91 i v386 v392 k3_t23) a + S1x16.size a ≤ S256x128.size a) ∧
  (∀ k3_t23 : Fin (k3_t23_loop i v386 v392).trips, ∀ (k3_h12 : k3_cond12 i v386 v392 = 1#1), ∀ a, (k3_off92 i v386 v392 k3_t23) a + S1x16.size a ≤ S256x128.size a) ∧
  (∀ k3_t23 : Fin (k3_t23_loop i v386 v392).trips, ∀ (k3_h12 : k3_cond12 i v386 v392 = 1#1), ∀ a, (k3_off93 i v386 v392 k3_t23) a + S1x16.size a ≤ S256x128.size a) ∧
  (∀ (k3_h12 : k3_cond12 i v386 v392 = 1#1), (k3_t24_loop i v386 v392).OK) ∧
  (∀ k3_t24 : Fin (k3_t24_loop i v386 v392).trips, ∀ (k3_h12 : k3_cond12 i v386 v392 = 1#1), ∀ a, (k3_off94 i v386 v392 k3_t24) a + S1x16.size a ≤ S256x128.size a) ∧
  (∀ k3_t24 : Fin (k3_t24_loop i v386 v392).trips, ∀ (k3_h12 : k3_cond12 i v386 v392 = 1#1), ∀ a, (k3_off95 i v386 v392 k3_t24) a + S1x16.size a ≤ S256x128.size a) ∧
  (∀ k3_t24 : Fin (k3_t24_loop i v386 v392).trips, ∀ (k3_h12 : k3_cond12 i v386 v392 = 1#1), ∀ a, (k3_off96 i v386 v392 k3_t24) a + S1x16.size a ≤ S256x128.size a) ∧
  (∀ k3_t24 : Fin (k3_t24_loop i v386 v392).trips, ∀ (k3_h12 : k3_cond12 i v386 v392 = 1#1), ∀ a, (k3_off97 i v386 v392 k3_t24) a + S1x16.size a ≤ S256x128.size a) ∧
  (∀ (k3_h44 : k3_cond44 i v386 v392 = 1#1), (k3_t87_loop i v386 v392).OK) ∧
  (∀ k3_t87 : Fin (k3_t87_loop i v386 v392).trips, ∀ (k3_h44 : k3_cond44 i v386 v392 = 1#1), ∀ a, (k3_off347 i v386 v392 k3_t87) a + S1x16.size a ≤ S256x128.size a) ∧
  (∀ k3_t87 : Fin (k3_t87_loop i v386 v392).trips, ∀ (k3_h44 : k3_cond44 i v386 v392 = 1#1), ∀ a, (k3_off348 i v386 v392 k3_t87) a + S1x16.size a ≤ S256x128.size a) ∧
  (∀ k3_t87 : Fin (k3_t87_loop i v386 v392).trips, ∀ (k3_h44 : k3_cond44 i v386 v392 = 1#1), ∀ a, (k3_off349 i v386 v392 k3_t87) a + S1x16.size a ≤ S256x128.size a) ∧
  (∀ k3_t87 : Fin (k3_t87_loop i v386 v392).trips, ∀ (k3_h44 : k3_cond44 i v386 v392 = 1#1), ∀ a, (k3_off350 i v386 v392 k3_t87) a + S1x16.size a ≤ S256x128.size a) ∧
  (∀ (k3_h44 : k3_cond44 i v386 v392 = 1#1), (k3_t88_loop i v386 v392).OK) ∧
  (∀ k3_t88 : Fin (k3_t88_loop i v386 v392).trips, ∀ (k3_h44 : k3_cond44 i v386 v392 = 1#1), ∀ a, (k3_off351 i v386 v392 k3_t88) a + S1x16.size a ≤ S256x128.size a) ∧
  (∀ k3_t88 : Fin (k3_t88_loop i v386 v392).trips, ∀ (k3_h44 : k3_cond44 i v386 v392 = 1#1), ∀ a, (k3_off352 i v386 v392 k3_t88) a + S1x16.size a ≤ S256x128.size a) ∧
  (∀ k3_t88 : Fin (k3_t88_loop i v386 v392).trips, ∀ (k3_h44 : k3_cond44 i v386 v392 = 1#1), ∀ a, (k3_off353 i v386 v392 k3_t88) a + S1x16.size a ≤ S256x128.size a) ∧
  (∀ k3_t88 : Fin (k3_t88_loop i v386 v392).trips, ∀ (k3_h44 : k3_cond44 i v386 v392 = 1#1), ∀ a, (k3_off354 i v386 v392 k3_t88) a + S1x16.size a ≤ S256x128.size a) ∧
  (∀ (k3_h76 : k3_cond76 i v386 v392 = 1#1), (k3_t151_loop i v386 v392).OK) ∧
  (∀ k3_t151 : Fin (k3_t151_loop i v386 v392).trips, ∀ (k3_h76 : k3_cond76 i v386 v392 = 1#1), ∀ a, (k3_off603 i v386 v392 k3_t151) a + S1x16.size a ≤ S256x128.size a) ∧
  (∀ k3_t151 : Fin (k3_t151_loop i v386 v392).trips, ∀ (k3_h76 : k3_cond76 i v386 v392 = 1#1), ∀ a, (k3_off604 i v386 v392 k3_t151) a + S1x16.size a ≤ S256x128.size a) ∧
  (∀ k3_t151 : Fin (k3_t151_loop i v386 v392).trips, ∀ (k3_h76 : k3_cond76 i v386 v392 = 1#1), ∀ a, (k3_off605 i v386 v392 k3_t151) a + S1x16.size a ≤ S256x128.size a) ∧
  (∀ k3_t151 : Fin (k3_t151_loop i v386 v392).trips, ∀ (k3_h76 : k3_cond76 i v386 v392 = 1#1), ∀ a, (k3_off606 i v386 v392 k3_t151) a + S1x16.size a ≤ S256x128.size a) ∧
  (∀ (k3_h76 : k3_cond76 i v386 v392 = 1#1), (k3_t152_loop i v386 v392).OK) ∧
  (∀ k3_t152 : Fin (k3_t152_loop i v386 v392).trips, ∀ (k3_h76 : k3_cond76 i v386 v392 = 1#1), ∀ a, (k3_off607 i v386 v392 k3_t152) a + S1x16.size a ≤ S256x128.size a) ∧
  (∀ k3_t152 : Fin (k3_t152_loop i v386 v392).trips, ∀ (k3_h76 : k3_cond76 i v386 v392 = 1#1), ∀ a, (k3_off608 i v386 v392 k3_t152) a + S1x16.size a ≤ S256x128.size a) ∧
  (∀ k3_t152 : Fin (k3_t152_loop i v386 v392).trips, ∀ (k3_h76 : k3_cond76 i v386 v392 = 1#1), ∀ a, (k3_off609 i v386 v392 k3_t152) a + S1x16.size a ≤ S256x128.size a) ∧
  (∀ k3_t152 : Fin (k3_t152_loop i v386 v392).trips, ∀ (k3_h76 : k3_cond76 i v386 v392 = 1#1), ∀ a, (k3_off610 i v386 v392 k3_t152) a + S1x16.size a ≤ S256x128.size a) ∧
  (∀ (k3_h108 : k3_cond108 i v386 v392 = 1#1), (k3_t215_loop i v386 v392).OK) ∧
  (∀ k3_t215 : Fin (k3_t215_loop i v386 v392).trips, ∀ (k3_h108 : k3_cond108 i v386 v392 = 1#1), ∀ a, (k3_off859 i v386 v392 k3_t215) a + S1x16.size a ≤ S256x128.size a)
def k3_chk12_1 (i : grid3.Coords) (v386 : BitVec 32) (v392 : BitVec 32) : Prop :=
  (∀ k3_t215 : Fin (k3_t215_loop i v386 v392).trips, ∀ (k3_h108 : k3_cond108 i v386 v392 = 1#1), ∀ a, (k3_off860 i v386 v392 k3_t215) a + S1x16.size a ≤ S256x128.size a) ∧
  (∀ k3_t215 : Fin (k3_t215_loop i v386 v392).trips, ∀ (k3_h108 : k3_cond108 i v386 v392 = 1#1), ∀ a, (k3_off861 i v386 v392 k3_t215) a + S1x16.size a ≤ S256x128.size a) ∧
  (∀ k3_t215 : Fin (k3_t215_loop i v386 v392).trips, ∀ (k3_h108 : k3_cond108 i v386 v392 = 1#1), ∀ a, (k3_off862 i v386 v392 k3_t215) a + S1x16.size a ≤ S256x128.size a) ∧
  (∀ (k3_h108 : k3_cond108 i v386 v392 = 1#1), (k3_t216_loop i v386 v392).OK) ∧
  (∀ k3_t216 : Fin (k3_t216_loop i v386 v392).trips, ∀ (k3_h108 : k3_cond108 i v386 v392 = 1#1), ∀ a, (k3_off863 i v386 v392 k3_t216) a + S1x16.size a ≤ S256x128.size a) ∧
  (∀ k3_t216 : Fin (k3_t216_loop i v386 v392).trips, ∀ (k3_h108 : k3_cond108 i v386 v392 = 1#1), ∀ a, (k3_off864 i v386 v392 k3_t216) a + S1x16.size a ≤ S256x128.size a) ∧
  (∀ k3_t216 : Fin (k3_t216_loop i v386 v392).trips, ∀ (k3_h108 : k3_cond108 i v386 v392 = 1#1), ∀ a, (k3_off865 i v386 v392 k3_t216) a + S1x16.size a ≤ S256x128.size a) ∧
  (∀ k3_t216 : Fin (k3_t216_loop i v386 v392).trips, ∀ (k3_h108 : k3_cond108 i v386 v392 = 1#1), ∀ a, (k3_off866 i v386 v392 k3_t216) a + S1x16.size a ≤ S256x128.size a)
def k3_chk12 (i : grid3.Coords) (v386 : BitVec 32) (v392 : BitVec 32) : Prop :=
  k3_chk12_0 i v386 v392 ∧
  k3_chk12_1 i v386 v392
theorem k3_t23_ok : ∀ (i : grid3.Coords) (v386 : BitVec 32) (v392 : BitVec 32) (k3_hw12 : k3_chk12 i v386 v392), ∀ (k3_h12 : k3_cond12 i v386 v392 = 1#1), (k3_t23_loop i v386 v392).OK := fun i v386 v392 k3_hw12 k3_h12 => k3_hw12.1.1 k3_h12
theorem k3_off90_inb : ∀ (i : grid3.Coords) (v386 : BitVec 32) (v392 : BitVec 32) (k3_hw12 : k3_chk12 i v386 v392) (k3_t23 : Fin (k3_t23_loop i v386 v392).trips), ∀ (k3_h12 : k3_cond12 i v386 v392 = 1#1), ∀ a, (k3_off90 i v386 v392 k3_t23) a + S1x16.size a ≤ S256x128.size a := fun i v386 v392 k3_hw12 k3_t23 k3_h12 => k3_hw12.1.2.1 k3_t23 k3_h12
theorem k3_off91_inb : ∀ (i : grid3.Coords) (v386 : BitVec 32) (v392 : BitVec 32) (k3_hw12 : k3_chk12 i v386 v392) (k3_t23 : Fin (k3_t23_loop i v386 v392).trips), ∀ (k3_h12 : k3_cond12 i v386 v392 = 1#1), ∀ a, (k3_off91 i v386 v392 k3_t23) a + S1x16.size a ≤ S256x128.size a := fun i v386 v392 k3_hw12 k3_t23 k3_h12 => k3_hw12.1.2.2.1 k3_t23 k3_h12
theorem k3_off92_inb : ∀ (i : grid3.Coords) (v386 : BitVec 32) (v392 : BitVec 32) (k3_hw12 : k3_chk12 i v386 v392) (k3_t23 : Fin (k3_t23_loop i v386 v392).trips), ∀ (k3_h12 : k3_cond12 i v386 v392 = 1#1), ∀ a, (k3_off92 i v386 v392 k3_t23) a + S1x16.size a ≤ S256x128.size a := fun i v386 v392 k3_hw12 k3_t23 k3_h12 => k3_hw12.1.2.2.2.1 k3_t23 k3_h12
theorem k3_off93_inb : ∀ (i : grid3.Coords) (v386 : BitVec 32) (v392 : BitVec 32) (k3_hw12 : k3_chk12 i v386 v392) (k3_t23 : Fin (k3_t23_loop i v386 v392).trips), ∀ (k3_h12 : k3_cond12 i v386 v392 = 1#1), ∀ a, (k3_off93 i v386 v392 k3_t23) a + S1x16.size a ≤ S256x128.size a := fun i v386 v392 k3_hw12 k3_t23 k3_h12 => k3_hw12.1.2.2.2.2.1 k3_t23 k3_h12
theorem k3_t24_ok : ∀ (i : grid3.Coords) (v386 : BitVec 32) (v392 : BitVec 32) (k3_hw12 : k3_chk12 i v386 v392), ∀ (k3_h12 : k3_cond12 i v386 v392 = 1#1), (k3_t24_loop i v386 v392).OK := fun i v386 v392 k3_hw12 k3_h12 => k3_hw12.1.2.2.2.2.2.1 k3_h12
theorem k3_off94_inb : ∀ (i : grid3.Coords) (v386 : BitVec 32) (v392 : BitVec 32) (k3_hw12 : k3_chk12 i v386 v392) (k3_t24 : Fin (k3_t24_loop i v386 v392).trips), ∀ (k3_h12 : k3_cond12 i v386 v392 = 1#1), ∀ a, (k3_off94 i v386 v392 k3_t24) a + S1x16.size a ≤ S256x128.size a := fun i v386 v392 k3_hw12 k3_t24 k3_h12 => k3_hw12.1.2.2.2.2.2.2.1 k3_t24 k3_h12
theorem k3_off95_inb : ∀ (i : grid3.Coords) (v386 : BitVec 32) (v392 : BitVec 32) (k3_hw12 : k3_chk12 i v386 v392) (k3_t24 : Fin (k3_t24_loop i v386 v392).trips), ∀ (k3_h12 : k3_cond12 i v386 v392 = 1#1), ∀ a, (k3_off95 i v386 v392 k3_t24) a + S1x16.size a ≤ S256x128.size a := fun i v386 v392 k3_hw12 k3_t24 k3_h12 => k3_hw12.1.2.2.2.2.2.2.2.1 k3_t24 k3_h12
theorem k3_off96_inb : ∀ (i : grid3.Coords) (v386 : BitVec 32) (v392 : BitVec 32) (k3_hw12 : k3_chk12 i v386 v392) (k3_t24 : Fin (k3_t24_loop i v386 v392).trips), ∀ (k3_h12 : k3_cond12 i v386 v392 = 1#1), ∀ a, (k3_off96 i v386 v392 k3_t24) a + S1x16.size a ≤ S256x128.size a := fun i v386 v392 k3_hw12 k3_t24 k3_h12 => k3_hw12.1.2.2.2.2.2.2.2.2.1 k3_t24 k3_h12
theorem k3_off97_inb : ∀ (i : grid3.Coords) (v386 : BitVec 32) (v392 : BitVec 32) (k3_hw12 : k3_chk12 i v386 v392) (k3_t24 : Fin (k3_t24_loop i v386 v392).trips), ∀ (k3_h12 : k3_cond12 i v386 v392 = 1#1), ∀ a, (k3_off97 i v386 v392 k3_t24) a + S1x16.size a ≤ S256x128.size a := fun i v386 v392 k3_hw12 k3_t24 k3_h12 => k3_hw12.1.2.2.2.2.2.2.2.2.2.1 k3_t24 k3_h12
theorem k3_t87_ok : ∀ (i : grid3.Coords) (v386 : BitVec 32) (v392 : BitVec 32) (k3_hw12 : k3_chk12 i v386 v392), ∀ (k3_h44 : k3_cond44 i v386 v392 = 1#1), (k3_t87_loop i v386 v392).OK := fun i v386 v392 k3_hw12 k3_h44 => k3_hw12.1.2.2.2.2.2.2.2.2.2.2.1 k3_h44
theorem k3_off347_inb : ∀ (i : grid3.Coords) (v386 : BitVec 32) (v392 : BitVec 32) (k3_hw12 : k3_chk12 i v386 v392) (k3_t87 : Fin (k3_t87_loop i v386 v392).trips), ∀ (k3_h44 : k3_cond44 i v386 v392 = 1#1), ∀ a, (k3_off347 i v386 v392 k3_t87) a + S1x16.size a ≤ S256x128.size a := fun i v386 v392 k3_hw12 k3_t87 k3_h44 => k3_hw12.1.2.2.2.2.2.2.2.2.2.2.2.1 k3_t87 k3_h44
theorem k3_off348_inb : ∀ (i : grid3.Coords) (v386 : BitVec 32) (v392 : BitVec 32) (k3_hw12 : k3_chk12 i v386 v392) (k3_t87 : Fin (k3_t87_loop i v386 v392).trips), ∀ (k3_h44 : k3_cond44 i v386 v392 = 1#1), ∀ a, (k3_off348 i v386 v392 k3_t87) a + S1x16.size a ≤ S256x128.size a := fun i v386 v392 k3_hw12 k3_t87 k3_h44 => k3_hw12.1.2.2.2.2.2.2.2.2.2.2.2.2.1 k3_t87 k3_h44
theorem k3_off349_inb : ∀ (i : grid3.Coords) (v386 : BitVec 32) (v392 : BitVec 32) (k3_hw12 : k3_chk12 i v386 v392) (k3_t87 : Fin (k3_t87_loop i v386 v392).trips), ∀ (k3_h44 : k3_cond44 i v386 v392 = 1#1), ∀ a, (k3_off349 i v386 v392 k3_t87) a + S1x16.size a ≤ S256x128.size a := fun i v386 v392 k3_hw12 k3_t87 k3_h44 => k3_hw12.1.2.2.2.2.2.2.2.2.2.2.2.2.2.1 k3_t87 k3_h44
theorem k3_off350_inb : ∀ (i : grid3.Coords) (v386 : BitVec 32) (v392 : BitVec 32) (k3_hw12 : k3_chk12 i v386 v392) (k3_t87 : Fin (k3_t87_loop i v386 v392).trips), ∀ (k3_h44 : k3_cond44 i v386 v392 = 1#1), ∀ a, (k3_off350 i v386 v392 k3_t87) a + S1x16.size a ≤ S256x128.size a := fun i v386 v392 k3_hw12 k3_t87 k3_h44 => k3_hw12.1.2.2.2.2.2.2.2.2.2.2.2.2.2.2.1 k3_t87 k3_h44
theorem k3_t88_ok : ∀ (i : grid3.Coords) (v386 : BitVec 32) (v392 : BitVec 32) (k3_hw12 : k3_chk12 i v386 v392), ∀ (k3_h44 : k3_cond44 i v386 v392 = 1#1), (k3_t88_loop i v386 v392).OK := fun i v386 v392 k3_hw12 k3_h44 => k3_hw12.1.2.2.2.2.2.2.2.2.2.2.2.2.2.2.2.1 k3_h44
theorem k3_off351_inb : ∀ (i : grid3.Coords) (v386 : BitVec 32) (v392 : BitVec 32) (k3_hw12 : k3_chk12 i v386 v392) (k3_t88 : Fin (k3_t88_loop i v386 v392).trips), ∀ (k3_h44 : k3_cond44 i v386 v392 = 1#1), ∀ a, (k3_off351 i v386 v392 k3_t88) a + S1x16.size a ≤ S256x128.size a := fun i v386 v392 k3_hw12 k3_t88 k3_h44 => k3_hw12.1.2.2.2.2.2.2.2.2.2.2.2.2.2.2.2.2.1 k3_t88 k3_h44
theorem k3_off352_inb : ∀ (i : grid3.Coords) (v386 : BitVec 32) (v392 : BitVec 32) (k3_hw12 : k3_chk12 i v386 v392) (k3_t88 : Fin (k3_t88_loop i v386 v392).trips), ∀ (k3_h44 : k3_cond44 i v386 v392 = 1#1), ∀ a, (k3_off352 i v386 v392 k3_t88) a + S1x16.size a ≤ S256x128.size a := fun i v386 v392 k3_hw12 k3_t88 k3_h44 => k3_hw12.1.2.2.2.2.2.2.2.2.2.2.2.2.2.2.2.2.2.1 k3_t88 k3_h44
theorem k3_off353_inb : ∀ (i : grid3.Coords) (v386 : BitVec 32) (v392 : BitVec 32) (k3_hw12 : k3_chk12 i v386 v392) (k3_t88 : Fin (k3_t88_loop i v386 v392).trips), ∀ (k3_h44 : k3_cond44 i v386 v392 = 1#1), ∀ a, (k3_off353 i v386 v392 k3_t88) a + S1x16.size a ≤ S256x128.size a := fun i v386 v392 k3_hw12 k3_t88 k3_h44 => k3_hw12.1.2.2.2.2.2.2.2.2.2.2.2.2.2.2.2.2.2.2.1 k3_t88 k3_h44
theorem k3_off354_inb : ∀ (i : grid3.Coords) (v386 : BitVec 32) (v392 : BitVec 32) (k3_hw12 : k3_chk12 i v386 v392) (k3_t88 : Fin (k3_t88_loop i v386 v392).trips), ∀ (k3_h44 : k3_cond44 i v386 v392 = 1#1), ∀ a, (k3_off354 i v386 v392 k3_t88) a + S1x16.size a ≤ S256x128.size a := fun i v386 v392 k3_hw12 k3_t88 k3_h44 => k3_hw12.1.2.2.2.2.2.2.2.2.2.2.2.2.2.2.2.2.2.2.2.1 k3_t88 k3_h44
theorem k3_t151_ok : ∀ (i : grid3.Coords) (v386 : BitVec 32) (v392 : BitVec 32) (k3_hw12 : k3_chk12 i v386 v392), ∀ (k3_h76 : k3_cond76 i v386 v392 = 1#1), (k3_t151_loop i v386 v392).OK := fun i v386 v392 k3_hw12 k3_h76 => k3_hw12.1.2.2.2.2.2.2.2.2.2.2.2.2.2.2.2.2.2.2.2.2.1 k3_h76
theorem k3_off603_inb : ∀ (i : grid3.Coords) (v386 : BitVec 32) (v392 : BitVec 32) (k3_hw12 : k3_chk12 i v386 v392) (k3_t151 : Fin (k3_t151_loop i v386 v392).trips), ∀ (k3_h76 : k3_cond76 i v386 v392 = 1#1), ∀ a, (k3_off603 i v386 v392 k3_t151) a + S1x16.size a ≤ S256x128.size a := fun i v386 v392 k3_hw12 k3_t151 k3_h76 => k3_hw12.1.2.2.2.2.2.2.2.2.2.2.2.2.2.2.2.2.2.2.2.2.2.1 k3_t151 k3_h76
theorem k3_off604_inb : ∀ (i : grid3.Coords) (v386 : BitVec 32) (v392 : BitVec 32) (k3_hw12 : k3_chk12 i v386 v392) (k3_t151 : Fin (k3_t151_loop i v386 v392).trips), ∀ (k3_h76 : k3_cond76 i v386 v392 = 1#1), ∀ a, (k3_off604 i v386 v392 k3_t151) a + S1x16.size a ≤ S256x128.size a := fun i v386 v392 k3_hw12 k3_t151 k3_h76 => k3_hw12.1.2.2.2.2.2.2.2.2.2.2.2.2.2.2.2.2.2.2.2.2.2.2.1 k3_t151 k3_h76
theorem k3_off605_inb : ∀ (i : grid3.Coords) (v386 : BitVec 32) (v392 : BitVec 32) (k3_hw12 : k3_chk12 i v386 v392) (k3_t151 : Fin (k3_t151_loop i v386 v392).trips), ∀ (k3_h76 : k3_cond76 i v386 v392 = 1#1), ∀ a, (k3_off605 i v386 v392 k3_t151) a + S1x16.size a ≤ S256x128.size a := fun i v386 v392 k3_hw12 k3_t151 k3_h76 => k3_hw12.1.2.2.2.2.2.2.2.2.2.2.2.2.2.2.2.2.2.2.2.2.2.2.2.1 k3_t151 k3_h76
theorem k3_off606_inb : ∀ (i : grid3.Coords) (v386 : BitVec 32) (v392 : BitVec 32) (k3_hw12 : k3_chk12 i v386 v392) (k3_t151 : Fin (k3_t151_loop i v386 v392).trips), ∀ (k3_h76 : k3_cond76 i v386 v392 = 1#1), ∀ a, (k3_off606 i v386 v392 k3_t151) a + S1x16.size a ≤ S256x128.size a := fun i v386 v392 k3_hw12 k3_t151 k3_h76 => k3_hw12.1.2.2.2.2.2.2.2.2.2.2.2.2.2.2.2.2.2.2.2.2.2.2.2.2.1 k3_t151 k3_h76
theorem k3_t152_ok : ∀ (i : grid3.Coords) (v386 : BitVec 32) (v392 : BitVec 32) (k3_hw12 : k3_chk12 i v386 v392), ∀ (k3_h76 : k3_cond76 i v386 v392 = 1#1), (k3_t152_loop i v386 v392).OK := fun i v386 v392 k3_hw12 k3_h76 => k3_hw12.1.2.2.2.2.2.2.2.2.2.2.2.2.2.2.2.2.2.2.2.2.2.2.2.2.2.1 k3_h76
theorem k3_off607_inb : ∀ (i : grid3.Coords) (v386 : BitVec 32) (v392 : BitVec 32) (k3_hw12 : k3_chk12 i v386 v392) (k3_t152 : Fin (k3_t152_loop i v386 v392).trips), ∀ (k3_h76 : k3_cond76 i v386 v392 = 1#1), ∀ a, (k3_off607 i v386 v392 k3_t152) a + S1x16.size a ≤ S256x128.size a := fun i v386 v392 k3_hw12 k3_t152 k3_h76 => k3_hw12.1.2.2.2.2.2.2.2.2.2.2.2.2.2.2.2.2.2.2.2.2.2.2.2.2.2.2.1 k3_t152 k3_h76
theorem k3_off608_inb : ∀ (i : grid3.Coords) (v386 : BitVec 32) (v392 : BitVec 32) (k3_hw12 : k3_chk12 i v386 v392) (k3_t152 : Fin (k3_t152_loop i v386 v392).trips), ∀ (k3_h76 : k3_cond76 i v386 v392 = 1#1), ∀ a, (k3_off608 i v386 v392 k3_t152) a + S1x16.size a ≤ S256x128.size a := fun i v386 v392 k3_hw12 k3_t152 k3_h76 => k3_hw12.1.2.2.2.2.2.2.2.2.2.2.2.2.2.2.2.2.2.2.2.2.2.2.2.2.2.2.2.1 k3_t152 k3_h76
theorem k3_off609_inb : ∀ (i : grid3.Coords) (v386 : BitVec 32) (v392 : BitVec 32) (k3_hw12 : k3_chk12 i v386 v392) (k3_t152 : Fin (k3_t152_loop i v386 v392).trips), ∀ (k3_h76 : k3_cond76 i v386 v392 = 1#1), ∀ a, (k3_off609 i v386 v392 k3_t152) a + S1x16.size a ≤ S256x128.size a := fun i v386 v392 k3_hw12 k3_t152 k3_h76 => k3_hw12.1.2.2.2.2.2.2.2.2.2.2.2.2.2.2.2.2.2.2.2.2.2.2.2.2.2.2.2.2.1 k3_t152 k3_h76
theorem k3_off610_inb : ∀ (i : grid3.Coords) (v386 : BitVec 32) (v392 : BitVec 32) (k3_hw12 : k3_chk12 i v386 v392) (k3_t152 : Fin (k3_t152_loop i v386 v392).trips), ∀ (k3_h76 : k3_cond76 i v386 v392 = 1#1), ∀ a, (k3_off610 i v386 v392 k3_t152) a + S1x16.size a ≤ S256x128.size a := fun i v386 v392 k3_hw12 k3_t152 k3_h76 => k3_hw12.1.2.2.2.2.2.2.2.2.2.2.2.2.2.2.2.2.2.2.2.2.2.2.2.2.2.2.2.2.2.1 k3_t152 k3_h76
theorem k3_t215_ok : ∀ (i : grid3.Coords) (v386 : BitVec 32) (v392 : BitVec 32) (k3_hw12 : k3_chk12 i v386 v392), ∀ (k3_h108 : k3_cond108 i v386 v392 = 1#1), (k3_t215_loop i v386 v392).OK := fun i v386 v392 k3_hw12 k3_h108 => k3_hw12.1.2.2.2.2.2.2.2.2.2.2.2.2.2.2.2.2.2.2.2.2.2.2.2.2.2.2.2.2.2.2.1 k3_h108
theorem k3_off859_inb : ∀ (i : grid3.Coords) (v386 : BitVec 32) (v392 : BitVec 32) (k3_hw12 : k3_chk12 i v386 v392) (k3_t215 : Fin (k3_t215_loop i v386 v392).trips), ∀ (k3_h108 : k3_cond108 i v386 v392 = 1#1), ∀ a, (k3_off859 i v386 v392 k3_t215) a + S1x16.size a ≤ S256x128.size a := fun i v386 v392 k3_hw12 k3_t215 k3_h108 => k3_hw12.1.2.2.2.2.2.2.2.2.2.2.2.2.2.2.2.2.2.2.2.2.2.2.2.2.2.2.2.2.2.2.2 k3_t215 k3_h108
theorem k3_off860_inb : ∀ (i : grid3.Coords) (v386 : BitVec 32) (v392 : BitVec 32) (k3_hw12 : k3_chk12 i v386 v392) (k3_t215 : Fin (k3_t215_loop i v386 v392).trips), ∀ (k3_h108 : k3_cond108 i v386 v392 = 1#1), ∀ a, (k3_off860 i v386 v392 k3_t215) a + S1x16.size a ≤ S256x128.size a := fun i v386 v392 k3_hw12 k3_t215 k3_h108 => k3_hw12.2.1 k3_t215 k3_h108
theorem k3_off861_inb : ∀ (i : grid3.Coords) (v386 : BitVec 32) (v392 : BitVec 32) (k3_hw12 : k3_chk12 i v386 v392) (k3_t215 : Fin (k3_t215_loop i v386 v392).trips), ∀ (k3_h108 : k3_cond108 i v386 v392 = 1#1), ∀ a, (k3_off861 i v386 v392 k3_t215) a + S1x16.size a ≤ S256x128.size a := fun i v386 v392 k3_hw12 k3_t215 k3_h108 => k3_hw12.2.2.1 k3_t215 k3_h108
theorem k3_off862_inb : ∀ (i : grid3.Coords) (v386 : BitVec 32) (v392 : BitVec 32) (k3_hw12 : k3_chk12 i v386 v392) (k3_t215 : Fin (k3_t215_loop i v386 v392).trips), ∀ (k3_h108 : k3_cond108 i v386 v392 = 1#1), ∀ a, (k3_off862 i v386 v392 k3_t215) a + S1x16.size a ≤ S256x128.size a := fun i v386 v392 k3_hw12 k3_t215 k3_h108 => k3_hw12.2.2.2.1 k3_t215 k3_h108
theorem k3_t216_ok : ∀ (i : grid3.Coords) (v386 : BitVec 32) (v392 : BitVec 32) (k3_hw12 : k3_chk12 i v386 v392), ∀ (k3_h108 : k3_cond108 i v386 v392 = 1#1), (k3_t216_loop i v386 v392).OK := fun i v386 v392 k3_hw12 k3_h108 => k3_hw12.2.2.2.2.1 k3_h108
theorem k3_off863_inb : ∀ (i : grid3.Coords) (v386 : BitVec 32) (v392 : BitVec 32) (k3_hw12 : k3_chk12 i v386 v392) (k3_t216 : Fin (k3_t216_loop i v386 v392).trips), ∀ (k3_h108 : k3_cond108 i v386 v392 = 1#1), ∀ a, (k3_off863 i v386 v392 k3_t216) a + S1x16.size a ≤ S256x128.size a := fun i v386 v392 k3_hw12 k3_t216 k3_h108 => k3_hw12.2.2.2.2.2.1 k3_t216 k3_h108
theorem k3_off864_inb : ∀ (i : grid3.Coords) (v386 : BitVec 32) (v392 : BitVec 32) (k3_hw12 : k3_chk12 i v386 v392) (k3_t216 : Fin (k3_t216_loop i v386 v392).trips), ∀ (k3_h108 : k3_cond108 i v386 v392 = 1#1), ∀ a, (k3_off864 i v386 v392 k3_t216) a + S1x16.size a ≤ S256x128.size a := fun i v386 v392 k3_hw12 k3_t216 k3_h108 => k3_hw12.2.2.2.2.2.2.1 k3_t216 k3_h108
theorem k3_off865_inb : ∀ (i : grid3.Coords) (v386 : BitVec 32) (v392 : BitVec 32) (k3_hw12 : k3_chk12 i v386 v392) (k3_t216 : Fin (k3_t216_loop i v386 v392).trips), ∀ (k3_h108 : k3_cond108 i v386 v392 = 1#1), ∀ a, (k3_off865 i v386 v392 k3_t216) a + S1x16.size a ≤ S256x128.size a := fun i v386 v392 k3_hw12 k3_t216 k3_h108 => k3_hw12.2.2.2.2.2.2.2.1 k3_t216 k3_h108
theorem k3_off866_inb : ∀ (i : grid3.Coords) (v386 : BitVec 32) (v392 : BitVec 32) (k3_hw12 : k3_chk12 i v386 v392) (k3_t216 : Fin (k3_t216_loop i v386 v392).trips), ∀ (k3_h108 : k3_cond108 i v386 v392 = 1#1), ∀ a, (k3_off866 i v386 v392 k3_t216) a + S1x16.size a ≤ S256x128.size a := fun i v386 v392 k3_hw12 k3_t216 k3_h108 => k3_hw12.2.2.2.2.2.2.2.2 k3_t216 k3_h108

@[reducible] def k3_t217_loop (i : grid3.Coords) (v398 : BitVec 32) (v403 : BitVec 32) : Scf.Loop 32 :=
  let c256_i32_1049 : BitVec 32 := 256#32
  let c0_i32_1048 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let c256_i32_1052 : BitVec 32 := 256#32
  let c0_i32_1051 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c768_i32_1050 : BitVec 32 := 768#32
  let v1616 : BitVec 32 := Scalar.subi v406 c768_i32_1050
  let v1617 : BitVec 32 := Scalar.maxsi c0_i32_1051 v1616
  let v1618 : BitVec 32 := Scalar.minsi c256_i32_1052 v1617
  let v1805 : BitVec 32 := Scalar.subi v1618 v1615
  let c1_i32_1195 : BitVec 32 := 1#32
  let v1807 : BitVec 32 := Scalar.divsi v1805 c1_i32_1195
  let v1808 : BitVec 32 := Scalar.muli v1807 c1_i32_1195
  let v1809 : BitVec 32 := Scalar.addi v1615 v1808
  let c1_i32_1196 : BitVec 32 := 1#32
  ⟨v1615, v1809, c1_i32_1196⟩
def k3_cond109 (i : grid3.Coords) (v398 : BitVec 32) (v403 : BitVec 32) : BitVec 1 :=
  let c256_i32_1052 : BitVec 32 := 256#32
  let c0_i32_1051 : BitVec 32 := 0#32
  let c1024_i32_173 : BitVec 32 := 1024#32
  let c0_i32_172 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v404 : BitVec 32 := Scalar.subi v403 v3
  let v405 : BitVec 32 := Scalar.maxsi c0_i32_172 v404
  let v406 : BitVec 32 := Scalar.minsi c1024_i32_173 v405
  let c768_i32_1050 : BitVec 32 := 768#32
  let v1616 : BitVec 32 := Scalar.subi v406 c768_i32_1050
  let v1617 : BitVec 32 := Scalar.maxsi c0_i32_1051 v1616
  let v1618 : BitVec 32 := Scalar.minsi c256_i32_1052 v1617
  let c256_i32_1049 : BitVec 32 := 256#32
  let c0_i32_1048 : BitVec 32 := 0#32
  let c1024_i32_171 : BitVec 32 := 1024#32
  let c0_i32_170 : BitVec 32 := 0#32
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let v1619 : BitVec 1 := Scalar.cmpi .sgt v1618 v1615
  let v1620 : BitVec 32 := Scalar.extui v1619
  let c0_i32_1053 : BitVec 32 := 0#32
  let v1621 : BitVec 1 := Scalar.cmpi .ne v1620 c0_i32_1053
  v1621

def k3_off867 (i : grid3.Coords) (v398 : BitVec 32) (v403 : BitVec 32) (k3_t217 : Fin (k3_t217_loop i v398 v403).trips) : Fin 2 → Nat :=
  let c256_i32_1049 : BitVec 32 := 256#32
  let c0_i32_1048 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let c1_i32_1196 : BitVec 32 := 1#32
  let arg13 : BitVec 32 := Scf.iv v1615 c1_i32_1196 k3_t217
  let v1828 : Index := Scalar.indexCast arg13
  let c0_1206 : Index := 0#32
  ![v1828.toNat, 0]
def k3_off868 (i : grid3.Coords) (v398 : BitVec 32) (v403 : BitVec 32) (k3_t217 : Fin (k3_t217_loop i v398 v403).trips) : Fin 2 → Nat :=
  let c256_i32_1049 : BitVec 32 := 256#32
  let c0_i32_1048 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let c1_i32_1196 : BitVec 32 := 1#32
  let arg13 : BitVec 32 := Scf.iv v1615 c1_i32_1196 k3_t217
  let v1832 : Index := Scalar.indexCast arg13
  let c16_1207 : Index := 16#32
  ![v1832.toNat, 16]
def k3_off869 (i : grid3.Coords) (v398 : BitVec 32) (v403 : BitVec 32) (k3_t217 : Fin (k3_t217_loop i v398 v403).trips) : Fin 2 → Nat :=
  let c256_i32_1049 : BitVec 32 := 256#32
  let c0_i32_1048 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let c1_i32_1196 : BitVec 32 := 1#32
  let arg13 : BitVec 32 := Scf.iv v1615 c1_i32_1196 k3_t217
  let v1836 : Index := Scalar.indexCast arg13
  let c32_1208 : Index := 32#32
  ![v1836.toNat, 32]
def k3_off870 (i : grid3.Coords) (v398 : BitVec 32) (v403 : BitVec 32) (k3_t217 : Fin (k3_t217_loop i v398 v403).trips) : Fin 2 → Nat :=
  let c256_i32_1049 : BitVec 32 := 256#32
  let c0_i32_1048 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let c1_i32_1196 : BitVec 32 := 1#32
  let arg13 : BitVec 32 := Scf.iv v1615 c1_i32_1196 k3_t217
  let v1840 : Index := Scalar.indexCast arg13
  let c48_1209 : Index := 48#32
  ![v1840.toNat, 48]
@[reducible] def k3_t218_loop (i : grid3.Coords) (v398 : BitVec 32) (v403 : BitVec 32) : Scf.Loop 32 :=
  let c256_i32_1049 : BitVec 32 := 256#32
  let c0_i32_1048 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let c256_i32_1052 : BitVec 32 := 256#32
  let c0_i32_1051 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c768_i32_1050 : BitVec 32 := 768#32
  let v1616 : BitVec 32 := Scalar.subi v406 c768_i32_1050
  let v1617 : BitVec 32 := Scalar.maxsi c0_i32_1051 v1616
  let v1618 : BitVec 32 := Scalar.minsi c256_i32_1052 v1617
  let v1805 : BitVec 32 := Scalar.subi v1618 v1615
  let c1_i32_1195 : BitVec 32 := 1#32
  let v1807 : BitVec 32 := Scalar.divsi v1805 c1_i32_1195
  let v1808 : BitVec 32 := Scalar.muli v1807 c1_i32_1195
  let v1809 : BitVec 32 := Scalar.addi v1615 v1808
  let v1806 : BitVec 32 := Scalar.addi v1615 v1805
  let c1_i32_1197 : BitVec 32 := 1#32
  ⟨v1809, v1806, c1_i32_1197⟩
def k3_off871 (i : grid3.Coords) (v398 : BitVec 32) (v403 : BitVec 32) (k3_t218 : Fin (k3_t218_loop i v398 v403).trips) : Fin 2 → Nat :=
  let c256_i32_1049 : BitVec 32 := 256#32
  let c0_i32_1048 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let c256_i32_1052 : BitVec 32 := 256#32
  let c0_i32_1051 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c768_i32_1050 : BitVec 32 := 768#32
  let v1616 : BitVec 32 := Scalar.subi v406 c768_i32_1050
  let v1617 : BitVec 32 := Scalar.maxsi c0_i32_1051 v1616
  let v1618 : BitVec 32 := Scalar.minsi c256_i32_1052 v1617
  let v1805 : BitVec 32 := Scalar.subi v1618 v1615
  let c1_i32_1195 : BitVec 32 := 1#32
  let v1807 : BitVec 32 := Scalar.divsi v1805 c1_i32_1195
  let v1808 : BitVec 32 := Scalar.muli v1807 c1_i32_1195
  let v1809 : BitVec 32 := Scalar.addi v1615 v1808
  let c1_i32_1197 : BitVec 32 := 1#32
  let arg13 : BitVec 32 := Scf.iv v1809 c1_i32_1197 k3_t218
  let v1828 : Index := Scalar.indexCast arg13
  let c0_1206 : Index := 0#32
  ![v1828.toNat, 0]
def k3_off872 (i : grid3.Coords) (v398 : BitVec 32) (v403 : BitVec 32) (k3_t218 : Fin (k3_t218_loop i v398 v403).trips) : Fin 2 → Nat :=
  let c256_i32_1049 : BitVec 32 := 256#32
  let c0_i32_1048 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let c256_i32_1052 : BitVec 32 := 256#32
  let c0_i32_1051 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c768_i32_1050 : BitVec 32 := 768#32
  let v1616 : BitVec 32 := Scalar.subi v406 c768_i32_1050
  let v1617 : BitVec 32 := Scalar.maxsi c0_i32_1051 v1616
  let v1618 : BitVec 32 := Scalar.minsi c256_i32_1052 v1617
  let v1805 : BitVec 32 := Scalar.subi v1618 v1615
  let c1_i32_1195 : BitVec 32 := 1#32
  let v1807 : BitVec 32 := Scalar.divsi v1805 c1_i32_1195
  let v1808 : BitVec 32 := Scalar.muli v1807 c1_i32_1195
  let v1809 : BitVec 32 := Scalar.addi v1615 v1808
  let c1_i32_1197 : BitVec 32 := 1#32
  let arg13 : BitVec 32 := Scf.iv v1809 c1_i32_1197 k3_t218
  let v1832 : Index := Scalar.indexCast arg13
  let c16_1207 : Index := 16#32
  ![v1832.toNat, 16]
def k3_off873 (i : grid3.Coords) (v398 : BitVec 32) (v403 : BitVec 32) (k3_t218 : Fin (k3_t218_loop i v398 v403).trips) : Fin 2 → Nat :=
  let c256_i32_1049 : BitVec 32 := 256#32
  let c0_i32_1048 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let c256_i32_1052 : BitVec 32 := 256#32
  let c0_i32_1051 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c768_i32_1050 : BitVec 32 := 768#32
  let v1616 : BitVec 32 := Scalar.subi v406 c768_i32_1050
  let v1617 : BitVec 32 := Scalar.maxsi c0_i32_1051 v1616
  let v1618 : BitVec 32 := Scalar.minsi c256_i32_1052 v1617
  let v1805 : BitVec 32 := Scalar.subi v1618 v1615
  let c1_i32_1195 : BitVec 32 := 1#32
  let v1807 : BitVec 32 := Scalar.divsi v1805 c1_i32_1195
  let v1808 : BitVec 32 := Scalar.muli v1807 c1_i32_1195
  let v1809 : BitVec 32 := Scalar.addi v1615 v1808
  let c1_i32_1197 : BitVec 32 := 1#32
  let arg13 : BitVec 32 := Scf.iv v1809 c1_i32_1197 k3_t218
  let v1836 : Index := Scalar.indexCast arg13
  let c32_1208 : Index := 32#32
  ![v1836.toNat, 32]
def k3_off874 (i : grid3.Coords) (v398 : BitVec 32) (v403 : BitVec 32) (k3_t218 : Fin (k3_t218_loop i v398 v403).trips) : Fin 2 → Nat :=
  let c256_i32_1049 : BitVec 32 := 256#32
  let c0_i32_1048 : BitVec 32 := 0#32
  let c1024_i32_171 : BitVec 32 := 1024#32
  let c0_i32_170 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v399 : BitVec 32 := Scalar.subi v398 v3
  let v400 : BitVec 32 := Scalar.maxsi c0_i32_170 v399
  let v401 : BitVec 32 := Scalar.minsi c1024_i32_171 v400
  let c768_i32_1047 : BitVec 32 := 768#32
  let v1613 : BitVec 32 := Scalar.subi v401 c768_i32_1047
  let v1614 : BitVec 32 := Scalar.maxsi c0_i32_1048 v1613
  let v1615 : BitVec 32 := Scalar.minsi c256_i32_1049 v1614
  let c256_i32_1052 : BitVec 32 := 256#32
  let c0_i32_1051 : BitVec 32 := 0#32
  let c1024_i32_173 : BitVec 32 := 1024#32
  let c0_i32_172 : BitVec 32 := 0#32
  let v404 : BitVec 32 := Scalar.subi v403 v3
  let v405 : BitVec 32 := Scalar.maxsi c0_i32_172 v404
  let v406 : BitVec 32 := Scalar.minsi c1024_i32_173 v405
  let c768_i32_1050 : BitVec 32 := 768#32
  let v1616 : BitVec 32 := Scalar.subi v406 c768_i32_1050
  let v1617 : BitVec 32 := Scalar.maxsi c0_i32_1051 v1616
  let v1618 : BitVec 32 := Scalar.minsi c256_i32_1052 v1617
  let v1805 : BitVec 32 := Scalar.subi v1618 v1615
  let c1_i32_1195 : BitVec 32 := 1#32
  let v1807 : BitVec 32 := Scalar.divsi v1805 c1_i32_1195
  let v1808 : BitVec 32 := Scalar.muli v1807 c1_i32_1195
  let v1809 : BitVec 32 := Scalar.addi v1615 v1808
  let c1_i32_1197 : BitVec 32 := 1#32
  let arg13 : BitVec 32 := Scf.iv v1809 c1_i32_1197 k3_t218
  let v1840 : Index := Scalar.indexCast arg13
  let c48_1209 : Index := 48#32
  ![v1840.toNat, 48]

variable {F : FTy → Type} [FloatOps F]

def k3_chk13_0 (i : grid3.Coords) (v398 : BitVec 32) (v403 : BitVec 32) : Prop :=
  (∀ (k3_h13 : k3_cond13 i v398 v403 = 1#1), (k3_t25_loop i v398 v403).OK) ∧
  (∀ k3_t25 : Fin (k3_t25_loop i v398 v403).trips, ∀ (k3_h13 : k3_cond13 i v398 v403 = 1#1), ∀ a, (k3_off98 i v398 v403 k3_t25) a + S1x16.size a ≤ S256x128.size a) ∧
  (∀ k3_t25 : Fin (k3_t25_loop i v398 v403).trips, ∀ (k3_h13 : k3_cond13 i v398 v403 = 1#1), ∀ a, (k3_off99 i v398 v403 k3_t25) a + S1x16.size a ≤ S256x128.size a) ∧
  (∀ k3_t25 : Fin (k3_t25_loop i v398 v403).trips, ∀ (k3_h13 : k3_cond13 i v398 v403 = 1#1), ∀ a, (k3_off100 i v398 v403 k3_t25) a + S1x16.size a ≤ S256x128.size a) ∧
  (∀ k3_t25 : Fin (k3_t25_loop i v398 v403).trips, ∀ (k3_h13 : k3_cond13 i v398 v403 = 1#1), ∀ a, (k3_off101 i v398 v403 k3_t25) a + S1x16.size a ≤ S256x128.size a) ∧
  (∀ (k3_h13 : k3_cond13 i v398 v403 = 1#1), (k3_t26_loop i v398 v403).OK) ∧
  (∀ k3_t26 : Fin (k3_t26_loop i v398 v403).trips, ∀ (k3_h13 : k3_cond13 i v398 v403 = 1#1), ∀ a, (k3_off102 i v398 v403 k3_t26) a + S1x16.size a ≤ S256x128.size a) ∧
  (∀ k3_t26 : Fin (k3_t26_loop i v398 v403).trips, ∀ (k3_h13 : k3_cond13 i v398 v403 = 1#1), ∀ a, (k3_off103 i v398 v403 k3_t26) a + S1x16.size a ≤ S256x128.size a) ∧
  (∀ k3_t26 : Fin (k3_t26_loop i v398 v403).trips, ∀ (k3_h13 : k3_cond13 i v398 v403 = 1#1), ∀ a, (k3_off104 i v398 v403 k3_t26) a + S1x16.size a ≤ S256x128.size a) ∧
  (∀ k3_t26 : Fin (k3_t26_loop i v398 v403).trips, ∀ (k3_h13 : k3_cond13 i v398 v403 = 1#1), ∀ a, (k3_off105 i v398 v403 k3_t26) a + S1x16.size a ≤ S256x128.size a) ∧
  (∀ (k3_h45 : k3_cond45 i v398 v403 = 1#1), (k3_t89_loop i v398 v403).OK) ∧
  (∀ k3_t89 : Fin (k3_t89_loop i v398 v403).trips, ∀ (k3_h45 : k3_cond45 i v398 v403 = 1#1), ∀ a, (k3_off355 i v398 v403 k3_t89) a + S1x16.size a ≤ S256x128.size a) ∧
  (∀ k3_t89 : Fin (k3_t89_loop i v398 v403).trips, ∀ (k3_h45 : k3_cond45 i v398 v403 = 1#1), ∀ a, (k3_off356 i v398 v403 k3_t89) a + S1x16.size a ≤ S256x128.size a) ∧
  (∀ k3_t89 : Fin (k3_t89_loop i v398 v403).trips, ∀ (k3_h45 : k3_cond45 i v398 v403 = 1#1), ∀ a, (k3_off357 i v398 v403 k3_t89) a + S1x16.size a ≤ S256x128.size a) ∧
  (∀ k3_t89 : Fin (k3_t89_loop i v398 v403).trips, ∀ (k3_h45 : k3_cond45 i v398 v403 = 1#1), ∀ a, (k3_off358 i v398 v403 k3_t89) a + S1x16.size a ≤ S256x128.size a) ∧
  (∀ (k3_h45 : k3_cond45 i v398 v403 = 1#1), (k3_t90_loop i v398 v403).OK) ∧
  (∀ k3_t90 : Fin (k3_t90_loop i v398 v403).trips, ∀ (k3_h45 : k3_cond45 i v398 v403 = 1#1), ∀ a, (k3_off359 i v398 v403 k3_t90) a + S1x16.size a ≤ S256x128.size a) ∧
  (∀ k3_t90 : Fin (k3_t90_loop i v398 v403).trips, ∀ (k3_h45 : k3_cond45 i v398 v403 = 1#1), ∀ a, (k3_off360 i v398 v403 k3_t90) a + S1x16.size a ≤ S256x128.size a) ∧
  (∀ k3_t90 : Fin (k3_t90_loop i v398 v403).trips, ∀ (k3_h45 : k3_cond45 i v398 v403 = 1#1), ∀ a, (k3_off361 i v398 v403 k3_t90) a + S1x16.size a ≤ S256x128.size a) ∧
  (∀ k3_t90 : Fin (k3_t90_loop i v398 v403).trips, ∀ (k3_h45 : k3_cond45 i v398 v403 = 1#1), ∀ a, (k3_off362 i v398 v403 k3_t90) a + S1x16.size a ≤ S256x128.size a) ∧
  (∀ (k3_h77 : k3_cond77 i v398 v403 = 1#1), (k3_t153_loop i v398 v403).OK) ∧
  (∀ k3_t153 : Fin (k3_t153_loop i v398 v403).trips, ∀ (k3_h77 : k3_cond77 i v398 v403 = 1#1), ∀ a, (k3_off611 i v398 v403 k3_t153) a + S1x16.size a ≤ S256x128.size a) ∧
  (∀ k3_t153 : Fin (k3_t153_loop i v398 v403).trips, ∀ (k3_h77 : k3_cond77 i v398 v403 = 1#1), ∀ a, (k3_off612 i v398 v403 k3_t153) a + S1x16.size a ≤ S256x128.size a) ∧
  (∀ k3_t153 : Fin (k3_t153_loop i v398 v403).trips, ∀ (k3_h77 : k3_cond77 i v398 v403 = 1#1), ∀ a, (k3_off613 i v398 v403 k3_t153) a + S1x16.size a ≤ S256x128.size a) ∧
  (∀ k3_t153 : Fin (k3_t153_loop i v398 v403).trips, ∀ (k3_h77 : k3_cond77 i v398 v403 = 1#1), ∀ a, (k3_off614 i v398 v403 k3_t153) a + S1x16.size a ≤ S256x128.size a) ∧
  (∀ (k3_h77 : k3_cond77 i v398 v403 = 1#1), (k3_t154_loop i v398 v403).OK) ∧
  (∀ k3_t154 : Fin (k3_t154_loop i v398 v403).trips, ∀ (k3_h77 : k3_cond77 i v398 v403 = 1#1), ∀ a, (k3_off615 i v398 v403 k3_t154) a + S1x16.size a ≤ S256x128.size a) ∧
  (∀ k3_t154 : Fin (k3_t154_loop i v398 v403).trips, ∀ (k3_h77 : k3_cond77 i v398 v403 = 1#1), ∀ a, (k3_off616 i v398 v403 k3_t154) a + S1x16.size a ≤ S256x128.size a) ∧
  (∀ k3_t154 : Fin (k3_t154_loop i v398 v403).trips, ∀ (k3_h77 : k3_cond77 i v398 v403 = 1#1), ∀ a, (k3_off617 i v398 v403 k3_t154) a + S1x16.size a ≤ S256x128.size a) ∧
  (∀ k3_t154 : Fin (k3_t154_loop i v398 v403).trips, ∀ (k3_h77 : k3_cond77 i v398 v403 = 1#1), ∀ a, (k3_off618 i v398 v403 k3_t154) a + S1x16.size a ≤ S256x128.size a) ∧
  (∀ (k3_h109 : k3_cond109 i v398 v403 = 1#1), (k3_t217_loop i v398 v403).OK) ∧
  (∀ k3_t217 : Fin (k3_t217_loop i v398 v403).trips, ∀ (k3_h109 : k3_cond109 i v398 v403 = 1#1), ∀ a, (k3_off867 i v398 v403 k3_t217) a + S1x16.size a ≤ S256x128.size a)
def k3_chk13_1 (i : grid3.Coords) (v398 : BitVec 32) (v403 : BitVec 32) : Prop :=
  (∀ k3_t217 : Fin (k3_t217_loop i v398 v403).trips, ∀ (k3_h109 : k3_cond109 i v398 v403 = 1#1), ∀ a, (k3_off868 i v398 v403 k3_t217) a + S1x16.size a ≤ S256x128.size a) ∧
  (∀ k3_t217 : Fin (k3_t217_loop i v398 v403).trips, ∀ (k3_h109 : k3_cond109 i v398 v403 = 1#1), ∀ a, (k3_off869 i v398 v403 k3_t217) a + S1x16.size a ≤ S256x128.size a) ∧
  (∀ k3_t217 : Fin (k3_t217_loop i v398 v403).trips, ∀ (k3_h109 : k3_cond109 i v398 v403 = 1#1), ∀ a, (k3_off870 i v398 v403 k3_t217) a + S1x16.size a ≤ S256x128.size a) ∧
  (∀ (k3_h109 : k3_cond109 i v398 v403 = 1#1), (k3_t218_loop i v398 v403).OK) ∧
  (∀ k3_t218 : Fin (k3_t218_loop i v398 v403).trips, ∀ (k3_h109 : k3_cond109 i v398 v403 = 1#1), ∀ a, (k3_off871 i v398 v403 k3_t218) a + S1x16.size a ≤ S256x128.size a) ∧
  (∀ k3_t218 : Fin (k3_t218_loop i v398 v403).trips, ∀ (k3_h109 : k3_cond109 i v398 v403 = 1#1), ∀ a, (k3_off872 i v398 v403 k3_t218) a + S1x16.size a ≤ S256x128.size a) ∧
  (∀ k3_t218 : Fin (k3_t218_loop i v398 v403).trips, ∀ (k3_h109 : k3_cond109 i v398 v403 = 1#1), ∀ a, (k3_off873 i v398 v403 k3_t218) a + S1x16.size a ≤ S256x128.size a) ∧
  (∀ k3_t218 : Fin (k3_t218_loop i v398 v403).trips, ∀ (k3_h109 : k3_cond109 i v398 v403 = 1#1), ∀ a, (k3_off874 i v398 v403 k3_t218) a + S1x16.size a ≤ S256x128.size a)
def k3_chk13 (i : grid3.Coords) (v398 : BitVec 32) (v403 : BitVec 32) : Prop :=
  k3_chk13_0 i v398 v403 ∧
  k3_chk13_1 i v398 v403
theorem k3_t25_ok : ∀ (i : grid3.Coords) (v398 : BitVec 32) (v403 : BitVec 32) (k3_hw13 : k3_chk13 i v398 v403), ∀ (k3_h13 : k3_cond13 i v398 v403 = 1#1), (k3_t25_loop i v398 v403).OK := fun i v398 v403 k3_hw13 k3_h13 => k3_hw13.1.1 k3_h13
theorem k3_off98_inb : ∀ (i : grid3.Coords) (v398 : BitVec 32) (v403 : BitVec 32) (k3_hw13 : k3_chk13 i v398 v403) (k3_t25 : Fin (k3_t25_loop i v398 v403).trips), ∀ (k3_h13 : k3_cond13 i v398 v403 = 1#1), ∀ a, (k3_off98 i v398 v403 k3_t25) a + S1x16.size a ≤ S256x128.size a := fun i v398 v403 k3_hw13 k3_t25 k3_h13 => k3_hw13.1.2.1 k3_t25 k3_h13
theorem k3_off99_inb : ∀ (i : grid3.Coords) (v398 : BitVec 32) (v403 : BitVec 32) (k3_hw13 : k3_chk13 i v398 v403) (k3_t25 : Fin (k3_t25_loop i v398 v403).trips), ∀ (k3_h13 : k3_cond13 i v398 v403 = 1#1), ∀ a, (k3_off99 i v398 v403 k3_t25) a + S1x16.size a ≤ S256x128.size a := fun i v398 v403 k3_hw13 k3_t25 k3_h13 => k3_hw13.1.2.2.1 k3_t25 k3_h13
theorem k3_off100_inb : ∀ (i : grid3.Coords) (v398 : BitVec 32) (v403 : BitVec 32) (k3_hw13 : k3_chk13 i v398 v403) (k3_t25 : Fin (k3_t25_loop i v398 v403).trips), ∀ (k3_h13 : k3_cond13 i v398 v403 = 1#1), ∀ a, (k3_off100 i v398 v403 k3_t25) a + S1x16.size a ≤ S256x128.size a := fun i v398 v403 k3_hw13 k3_t25 k3_h13 => k3_hw13.1.2.2.2.1 k3_t25 k3_h13
theorem k3_off101_inb : ∀ (i : grid3.Coords) (v398 : BitVec 32) (v403 : BitVec 32) (k3_hw13 : k3_chk13 i v398 v403) (k3_t25 : Fin (k3_t25_loop i v398 v403).trips), ∀ (k3_h13 : k3_cond13 i v398 v403 = 1#1), ∀ a, (k3_off101 i v398 v403 k3_t25) a + S1x16.size a ≤ S256x128.size a := fun i v398 v403 k3_hw13 k3_t25 k3_h13 => k3_hw13.1.2.2.2.2.1 k3_t25 k3_h13
theorem k3_t26_ok : ∀ (i : grid3.Coords) (v398 : BitVec 32) (v403 : BitVec 32) (k3_hw13 : k3_chk13 i v398 v403), ∀ (k3_h13 : k3_cond13 i v398 v403 = 1#1), (k3_t26_loop i v398 v403).OK := fun i v398 v403 k3_hw13 k3_h13 => k3_hw13.1.2.2.2.2.2.1 k3_h13
theorem k3_off102_inb : ∀ (i : grid3.Coords) (v398 : BitVec 32) (v403 : BitVec 32) (k3_hw13 : k3_chk13 i v398 v403) (k3_t26 : Fin (k3_t26_loop i v398 v403).trips), ∀ (k3_h13 : k3_cond13 i v398 v403 = 1#1), ∀ a, (k3_off102 i v398 v403 k3_t26) a + S1x16.size a ≤ S256x128.size a := fun i v398 v403 k3_hw13 k3_t26 k3_h13 => k3_hw13.1.2.2.2.2.2.2.1 k3_t26 k3_h13
theorem k3_off103_inb : ∀ (i : grid3.Coords) (v398 : BitVec 32) (v403 : BitVec 32) (k3_hw13 : k3_chk13 i v398 v403) (k3_t26 : Fin (k3_t26_loop i v398 v403).trips), ∀ (k3_h13 : k3_cond13 i v398 v403 = 1#1), ∀ a, (k3_off103 i v398 v403 k3_t26) a + S1x16.size a ≤ S256x128.size a := fun i v398 v403 k3_hw13 k3_t26 k3_h13 => k3_hw13.1.2.2.2.2.2.2.2.1 k3_t26 k3_h13
theorem k3_off104_inb : ∀ (i : grid3.Coords) (v398 : BitVec 32) (v403 : BitVec 32) (k3_hw13 : k3_chk13 i v398 v403) (k3_t26 : Fin (k3_t26_loop i v398 v403).trips), ∀ (k3_h13 : k3_cond13 i v398 v403 = 1#1), ∀ a, (k3_off104 i v398 v403 k3_t26) a + S1x16.size a ≤ S256x128.size a := fun i v398 v403 k3_hw13 k3_t26 k3_h13 => k3_hw13.1.2.2.2.2.2.2.2.2.1 k3_t26 k3_h13
theorem k3_off105_inb : ∀ (i : grid3.Coords) (v398 : BitVec 32) (v403 : BitVec 32) (k3_hw13 : k3_chk13 i v398 v403) (k3_t26 : Fin (k3_t26_loop i v398 v403).trips), ∀ (k3_h13 : k3_cond13 i v398 v403 = 1#1), ∀ a, (k3_off105 i v398 v403 k3_t26) a + S1x16.size a ≤ S256x128.size a := fun i v398 v403 k3_hw13 k3_t26 k3_h13 => k3_hw13.1.2.2.2.2.2.2.2.2.2.1 k3_t26 k3_h13
theorem k3_t89_ok : ∀ (i : grid3.Coords) (v398 : BitVec 32) (v403 : BitVec 32) (k3_hw13 : k3_chk13 i v398 v403), ∀ (k3_h45 : k3_cond45 i v398 v403 = 1#1), (k3_t89_loop i v398 v403).OK := fun i v398 v403 k3_hw13 k3_h45 => k3_hw13.1.2.2.2.2.2.2.2.2.2.2.1 k3_h45
theorem k3_off355_inb : ∀ (i : grid3.Coords) (v398 : BitVec 32) (v403 : BitVec 32) (k3_hw13 : k3_chk13 i v398 v403) (k3_t89 : Fin (k3_t89_loop i v398 v403).trips), ∀ (k3_h45 : k3_cond45 i v398 v403 = 1#1), ∀ a, (k3_off355 i v398 v403 k3_t89) a + S1x16.size a ≤ S256x128.size a := fun i v398 v403 k3_hw13 k3_t89 k3_h45 => k3_hw13.1.2.2.2.2.2.2.2.2.2.2.2.1 k3_t89 k3_h45
theorem k3_off356_inb : ∀ (i : grid3.Coords) (v398 : BitVec 32) (v403 : BitVec 32) (k3_hw13 : k3_chk13 i v398 v403) (k3_t89 : Fin (k3_t89_loop i v398 v403).trips), ∀ (k3_h45 : k3_cond45 i v398 v403 = 1#1), ∀ a, (k3_off356 i v398 v403 k3_t89) a + S1x16.size a ≤ S256x128.size a := fun i v398 v403 k3_hw13 k3_t89 k3_h45 => k3_hw13.1.2.2.2.2.2.2.2.2.2.2.2.2.1 k3_t89 k3_h45
theorem k3_off357_inb : ∀ (i : grid3.Coords) (v398 : BitVec 32) (v403 : BitVec 32) (k3_hw13 : k3_chk13 i v398 v403) (k3_t89 : Fin (k3_t89_loop i v398 v403).trips), ∀ (k3_h45 : k3_cond45 i v398 v403 = 1#1), ∀ a, (k3_off357 i v398 v403 k3_t89) a + S1x16.size a ≤ S256x128.size a := fun i v398 v403 k3_hw13 k3_t89 k3_h45 => k3_hw13.1.2.2.2.2.2.2.2.2.2.2.2.2.2.1 k3_t89 k3_h45
theorem k3_off358_inb : ∀ (i : grid3.Coords) (v398 : BitVec 32) (v403 : BitVec 32) (k3_hw13 : k3_chk13 i v398 v403) (k3_t89 : Fin (k3_t89_loop i v398 v403).trips), ∀ (k3_h45 : k3_cond45 i v398 v403 = 1#1), ∀ a, (k3_off358 i v398 v403 k3_t89) a + S1x16.size a ≤ S256x128.size a := fun i v398 v403 k3_hw13 k3_t89 k3_h45 => k3_hw13.1.2.2.2.2.2.2.2.2.2.2.2.2.2.2.1 k3_t89 k3_h45
theorem k3_t90_ok : ∀ (i : grid3.Coords) (v398 : BitVec 32) (v403 : BitVec 32) (k3_hw13 : k3_chk13 i v398 v403), ∀ (k3_h45 : k3_cond45 i v398 v403 = 1#1), (k3_t90_loop i v398 v403).OK := fun i v398 v403 k3_hw13 k3_h45 => k3_hw13.1.2.2.2.2.2.2.2.2.2.2.2.2.2.2.2.1 k3_h45
theorem k3_off359_inb : ∀ (i : grid3.Coords) (v398 : BitVec 32) (v403 : BitVec 32) (k3_hw13 : k3_chk13 i v398 v403) (k3_t90 : Fin (k3_t90_loop i v398 v403).trips), ∀ (k3_h45 : k3_cond45 i v398 v403 = 1#1), ∀ a, (k3_off359 i v398 v403 k3_t90) a + S1x16.size a ≤ S256x128.size a := fun i v398 v403 k3_hw13 k3_t90 k3_h45 => k3_hw13.1.2.2.2.2.2.2.2.2.2.2.2.2.2.2.2.2.1 k3_t90 k3_h45
theorem k3_off360_inb : ∀ (i : grid3.Coords) (v398 : BitVec 32) (v403 : BitVec 32) (k3_hw13 : k3_chk13 i v398 v403) (k3_t90 : Fin (k3_t90_loop i v398 v403).trips), ∀ (k3_h45 : k3_cond45 i v398 v403 = 1#1), ∀ a, (k3_off360 i v398 v403 k3_t90) a + S1x16.size a ≤ S256x128.size a := fun i v398 v403 k3_hw13 k3_t90 k3_h45 => k3_hw13.1.2.2.2.2.2.2.2.2.2.2.2.2.2.2.2.2.2.1 k3_t90 k3_h45
theorem k3_off361_inb : ∀ (i : grid3.Coords) (v398 : BitVec 32) (v403 : BitVec 32) (k3_hw13 : k3_chk13 i v398 v403) (k3_t90 : Fin (k3_t90_loop i v398 v403).trips), ∀ (k3_h45 : k3_cond45 i v398 v403 = 1#1), ∀ a, (k3_off361 i v398 v403 k3_t90) a + S1x16.size a ≤ S256x128.size a := fun i v398 v403 k3_hw13 k3_t90 k3_h45 => k3_hw13.1.2.2.2.2.2.2.2.2.2.2.2.2.2.2.2.2.2.2.1 k3_t90 k3_h45
theorem k3_off362_inb : ∀ (i : grid3.Coords) (v398 : BitVec 32) (v403 : BitVec 32) (k3_hw13 : k3_chk13 i v398 v403) (k3_t90 : Fin (k3_t90_loop i v398 v403).trips), ∀ (k3_h45 : k3_cond45 i v398 v403 = 1#1), ∀ a, (k3_off362 i v398 v403 k3_t90) a + S1x16.size a ≤ S256x128.size a := fun i v398 v403 k3_hw13 k3_t90 k3_h45 => k3_hw13.1.2.2.2.2.2.2.2.2.2.2.2.2.2.2.2.2.2.2.2.1 k3_t90 k3_h45
theorem k3_t153_ok : ∀ (i : grid3.Coords) (v398 : BitVec 32) (v403 : BitVec 32) (k3_hw13 : k3_chk13 i v398 v403), ∀ (k3_h77 : k3_cond77 i v398 v403 = 1#1), (k3_t153_loop i v398 v403).OK := fun i v398 v403 k3_hw13 k3_h77 => k3_hw13.1.2.2.2.2.2.2.2.2.2.2.2.2.2.2.2.2.2.2.2.2.1 k3_h77
theorem k3_off611_inb : ∀ (i : grid3.Coords) (v398 : BitVec 32) (v403 : BitVec 32) (k3_hw13 : k3_chk13 i v398 v403) (k3_t153 : Fin (k3_t153_loop i v398 v403).trips), ∀ (k3_h77 : k3_cond77 i v398 v403 = 1#1), ∀ a, (k3_off611 i v398 v403 k3_t153) a + S1x16.size a ≤ S256x128.size a := fun i v398 v403 k3_hw13 k3_t153 k3_h77 => k3_hw13.1.2.2.2.2.2.2.2.2.2.2.2.2.2.2.2.2.2.2.2.2.2.1 k3_t153 k3_h77
theorem k3_off612_inb : ∀ (i : grid3.Coords) (v398 : BitVec 32) (v403 : BitVec 32) (k3_hw13 : k3_chk13 i v398 v403) (k3_t153 : Fin (k3_t153_loop i v398 v403).trips), ∀ (k3_h77 : k3_cond77 i v398 v403 = 1#1), ∀ a, (k3_off612 i v398 v403 k3_t153) a + S1x16.size a ≤ S256x128.size a := fun i v398 v403 k3_hw13 k3_t153 k3_h77 => k3_hw13.1.2.2.2.2.2.2.2.2.2.2.2.2.2.2.2.2.2.2.2.2.2.2.1 k3_t153 k3_h77
theorem k3_off613_inb : ∀ (i : grid3.Coords) (v398 : BitVec 32) (v403 : BitVec 32) (k3_hw13 : k3_chk13 i v398 v403) (k3_t153 : Fin (k3_t153_loop i v398 v403).trips), ∀ (k3_h77 : k3_cond77 i v398 v403 = 1#1), ∀ a, (k3_off613 i v398 v403 k3_t153) a + S1x16.size a ≤ S256x128.size a := fun i v398 v403 k3_hw13 k3_t153 k3_h77 => k3_hw13.1.2.2.2.2.2.2.2.2.2.2.2.2.2.2.2.2.2.2.2.2.2.2.2.1 k3_t153 k3_h77
theorem k3_off614_inb : ∀ (i : grid3.Coords) (v398 : BitVec 32) (v403 : BitVec 32) (k3_hw13 : k3_chk13 i v398 v403) (k3_t153 : Fin (k3_t153_loop i v398 v403).trips), ∀ (k3_h77 : k3_cond77 i v398 v403 = 1#1), ∀ a, (k3_off614 i v398 v403 k3_t153) a + S1x16.size a ≤ S256x128.size a := fun i v398 v403 k3_hw13 k3_t153 k3_h77 => k3_hw13.1.2.2.2.2.2.2.2.2.2.2.2.2.2.2.2.2.2.2.2.2.2.2.2.2.1 k3_t153 k3_h77
theorem k3_t154_ok : ∀ (i : grid3.Coords) (v398 : BitVec 32) (v403 : BitVec 32) (k3_hw13 : k3_chk13 i v398 v403), ∀ (k3_h77 : k3_cond77 i v398 v403 = 1#1), (k3_t154_loop i v398 v403).OK := fun i v398 v403 k3_hw13 k3_h77 => k3_hw13.1.2.2.2.2.2.2.2.2.2.2.2.2.2.2.2.2.2.2.2.2.2.2.2.2.2.1 k3_h77
theorem k3_off615_inb : ∀ (i : grid3.Coords) (v398 : BitVec 32) (v403 : BitVec 32) (k3_hw13 : k3_chk13 i v398 v403) (k3_t154 : Fin (k3_t154_loop i v398 v403).trips), ∀ (k3_h77 : k3_cond77 i v398 v403 = 1#1), ∀ a, (k3_off615 i v398 v403 k3_t154) a + S1x16.size a ≤ S256x128.size a := fun i v398 v403 k3_hw13 k3_t154 k3_h77 => k3_hw13.1.2.2.2.2.2.2.2.2.2.2.2.2.2.2.2.2.2.2.2.2.2.2.2.2.2.2.1 k3_t154 k3_h77
theorem k3_off616_inb : ∀ (i : grid3.Coords) (v398 : BitVec 32) (v403 : BitVec 32) (k3_hw13 : k3_chk13 i v398 v403) (k3_t154 : Fin (k3_t154_loop i v398 v403).trips), ∀ (k3_h77 : k3_cond77 i v398 v403 = 1#1), ∀ a, (k3_off616 i v398 v403 k3_t154) a + S1x16.size a ≤ S256x128.size a := fun i v398 v403 k3_hw13 k3_t154 k3_h77 => k3_hw13.1.2.2.2.2.2.2.2.2.2.2.2.2.2.2.2.2.2.2.2.2.2.2.2.2.2.2.2.1 k3_t154 k3_h77
theorem k3_off617_inb : ∀ (i : grid3.Coords) (v398 : BitVec 32) (v403 : BitVec 32) (k3_hw13 : k3_chk13 i v398 v403) (k3_t154 : Fin (k3_t154_loop i v398 v403).trips), ∀ (k3_h77 : k3_cond77 i v398 v403 = 1#1), ∀ a, (k3_off617 i v398 v403 k3_t154) a + S1x16.size a ≤ S256x128.size a := fun i v398 v403 k3_hw13 k3_t154 k3_h77 => k3_hw13.1.2.2.2.2.2.2.2.2.2.2.2.2.2.2.2.2.2.2.2.2.2.2.2.2.2.2.2.2.1 k3_t154 k3_h77
theorem k3_off618_inb : ∀ (i : grid3.Coords) (v398 : BitVec 32) (v403 : BitVec 32) (k3_hw13 : k3_chk13 i v398 v403) (k3_t154 : Fin (k3_t154_loop i v398 v403).trips), ∀ (k3_h77 : k3_cond77 i v398 v403 = 1#1), ∀ a, (k3_off618 i v398 v403 k3_t154) a + S1x16.size a ≤ S256x128.size a := fun i v398 v403 k3_hw13 k3_t154 k3_h77 => k3_hw13.1.2.2.2.2.2.2.2.2.2.2.2.2.2.2.2.2.2.2.2.2.2.2.2.2.2.2.2.2.2.1 k3_t154 k3_h77
theorem k3_t217_ok : ∀ (i : grid3.Coords) (v398 : BitVec 32) (v403 : BitVec 32) (k3_hw13 : k3_chk13 i v398 v403), ∀ (k3_h109 : k3_cond109 i v398 v403 = 1#1), (k3_t217_loop i v398 v403).OK := fun i v398 v403 k3_hw13 k3_h109 => k3_hw13.1.2.2.2.2.2.2.2.2.2.2.2.2.2.2.2.2.2.2.2.2.2.2.2.2.2.2.2.2.2.2.1 k3_h109
theorem k3_off867_inb : ∀ (i : grid3.Coords) (v398 : BitVec 32) (v403 : BitVec 32) (k3_hw13 : k3_chk13 i v398 v403) (k3_t217 : Fin (k3_t217_loop i v398 v403).trips), ∀ (k3_h109 : k3_cond109 i v398 v403 = 1#1), ∀ a, (k3_off867 i v398 v403 k3_t217) a + S1x16.size a ≤ S256x128.size a := fun i v398 v403 k3_hw13 k3_t217 k3_h109 => k3_hw13.1.2.2.2.2.2.2.2.2.2.2.2.2.2.2.2.2.2.2.2.2.2.2.2.2.2.2.2.2.2.2.2 k3_t217 k3_h109
theorem k3_off868_inb : ∀ (i : grid3.Coords) (v398 : BitVec 32) (v403 : BitVec 32) (k3_hw13 : k3_chk13 i v398 v403) (k3_t217 : Fin (k3_t217_loop i v398 v403).trips), ∀ (k3_h109 : k3_cond109 i v398 v403 = 1#1), ∀ a, (k3_off868 i v398 v403 k3_t217) a + S1x16.size a ≤ S256x128.size a := fun i v398 v403 k3_hw13 k3_t217 k3_h109 => k3_hw13.2.1 k3_t217 k3_h109
theorem k3_off869_inb : ∀ (i : grid3.Coords) (v398 : BitVec 32) (v403 : BitVec 32) (k3_hw13 : k3_chk13 i v398 v403) (k3_t217 : Fin (k3_t217_loop i v398 v403).trips), ∀ (k3_h109 : k3_cond109 i v398 v403 = 1#1), ∀ a, (k3_off869 i v398 v403 k3_t217) a + S1x16.size a ≤ S256x128.size a := fun i v398 v403 k3_hw13 k3_t217 k3_h109 => k3_hw13.2.2.1 k3_t217 k3_h109
theorem k3_off870_inb : ∀ (i : grid3.Coords) (v398 : BitVec 32) (v403 : BitVec 32) (k3_hw13 : k3_chk13 i v398 v403) (k3_t217 : Fin (k3_t217_loop i v398 v403).trips), ∀ (k3_h109 : k3_cond109 i v398 v403 = 1#1), ∀ a, (k3_off870 i v398 v403 k3_t217) a + S1x16.size a ≤ S256x128.size a := fun i v398 v403 k3_hw13 k3_t217 k3_h109 => k3_hw13.2.2.2.1 k3_t217 k3_h109
theorem k3_t218_ok : ∀ (i : grid3.Coords) (v398 : BitVec 32) (v403 : BitVec 32) (k3_hw13 : k3_chk13 i v398 v403), ∀ (k3_h109 : k3_cond109 i v398 v403 = 1#1), (k3_t218_loop i v398 v403).OK := fun i v398 v403 k3_hw13 k3_h109 => k3_hw13.2.2.2.2.1 k3_h109
theorem k3_off871_inb : ∀ (i : grid3.Coords) (v398 : BitVec 32) (v403 : BitVec 32) (k3_hw13 : k3_chk13 i v398 v403) (k3_t218 : Fin (k3_t218_loop i v398 v403).trips), ∀ (k3_h109 : k3_cond109 i v398 v403 = 1#1), ∀ a, (k3_off871 i v398 v403 k3_t218) a + S1x16.size a ≤ S256x128.size a := fun i v398 v403 k3_hw13 k3_t218 k3_h109 => k3_hw13.2.2.2.2.2.1 k3_t218 k3_h109
theorem k3_off872_inb : ∀ (i : grid3.Coords) (v398 : BitVec 32) (v403 : BitVec 32) (k3_hw13 : k3_chk13 i v398 v403) (k3_t218 : Fin (k3_t218_loop i v398 v403).trips), ∀ (k3_h109 : k3_cond109 i v398 v403 = 1#1), ∀ a, (k3_off872 i v398 v403 k3_t218) a + S1x16.size a ≤ S256x128.size a := fun i v398 v403 k3_hw13 k3_t218 k3_h109 => k3_hw13.2.2.2.2.2.2.1 k3_t218 k3_h109
theorem k3_off873_inb : ∀ (i : grid3.Coords) (v398 : BitVec 32) (v403 : BitVec 32) (k3_hw13 : k3_chk13 i v398 v403) (k3_t218 : Fin (k3_t218_loop i v398 v403).trips), ∀ (k3_h109 : k3_cond109 i v398 v403 = 1#1), ∀ a, (k3_off873 i v398 v403 k3_t218) a + S1x16.size a ≤ S256x128.size a := fun i v398 v403 k3_hw13 k3_t218 k3_h109 => k3_hw13.2.2.2.2.2.2.2.1 k3_t218 k3_h109
theorem k3_off874_inb : ∀ (i : grid3.Coords) (v398 : BitVec 32) (v403 : BitVec 32) (k3_hw13 : k3_chk13 i v398 v403) (k3_t218 : Fin (k3_t218_loop i v398 v403).trips), ∀ (k3_h109 : k3_cond109 i v398 v403 = 1#1), ∀ a, (k3_off874 i v398 v403 k3_t218) a + S1x16.size a ≤ S256x128.size a := fun i v398 v403 k3_hw13 k3_t218 k3_h109 => k3_hw13.2.2.2.2.2.2.2.2 k3_t218 k3_h109

@[reducible] def k3_t219_loop (i : grid3.Coords) (v408 : BitVec 32) (v414 : BitVec 32) : Scf.Loop 32 :=
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let c256_i32_1059 : BitVec 32 := 256#32
  let c0_i32_1058 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c768_i32_1057 : BitVec 32 := 768#32
  let v1625 : BitVec 32 := Scalar.subi v418 c768_i32_1057
  let v1626 : BitVec 32 := Scalar.maxsi c0_i32_1058 v1625
  let v1627 : BitVec 32 := Scalar.minsi c256_i32_1059 v1626
  let v1805 : BitVec 32 := Scalar.subi v1627 v1624
  let c1_i32_1195 : BitVec 32 := 1#32
  let v1807 : BitVec 32 := Scalar.divsi v1805 c1_i32_1195
  let v1808 : BitVec 32 := Scalar.muli v1807 c1_i32_1195
  let v1809 : BitVec 32 := Scalar.addi v1624 v1808
  let c1_i32_1196 : BitVec 32 := 1#32
  ⟨v1624, v1809, c1_i32_1196⟩
def k3_cond110 (i : grid3.Coords) (v408 : BitVec 32) (v414 : BitVec 32) : BitVec 1 :=
  let c256_i32_1059 : BitVec 32 := 256#32
  let c0_i32_1058 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v416 : BitVec 32 := Scalar.subi v415 v3
  let v417 : BitVec 32 := Scalar.maxsi c0_i32_178 v416
  let v418 : BitVec 32 := Scalar.minsi c1024_i32_179 v417
  let c768_i32_1057 : BitVec 32 := 768#32
  let v1625 : BitVec 32 := Scalar.subi v418 c768_i32_1057
  let v1626 : BitVec 32 := Scalar.maxsi c0_i32_1058 v1625
  let v1627 : BitVec 32 := Scalar.minsi c256_i32_1059 v1626
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let v1628 : BitVec 1 := Scalar.cmpi .sgt v1627 v1624
  let v1629 : BitVec 32 := Scalar.extui v1628
  let c0_i32_1060 : BitVec 32 := 0#32
  let v1630 : BitVec 1 := Scalar.cmpi .ne v1629 c0_i32_1060
  v1630

def k3_off875 (i : grid3.Coords) (v408 : BitVec 32) (v414 : BitVec 32) (k3_t219 : Fin (k3_t219_loop i v408 v414).trips) : Fin 2 → Nat :=
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let c1_i32_1196 : BitVec 32 := 1#32
  let arg13 : BitVec 32 := Scf.iv v1624 c1_i32_1196 k3_t219
  let v1828 : Index := Scalar.indexCast arg13
  let c64 : Index := 64#32
  ![v1828.toNat, 64]
def k3_off876 (i : grid3.Coords) (v408 : BitVec 32) (v414 : BitVec 32) (k3_t219 : Fin (k3_t219_loop i v408 v414).trips) : Fin 2 → Nat :=
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let c1_i32_1196 : BitVec 32 := 1#32
  let arg13 : BitVec 32 := Scf.iv v1624 c1_i32_1196 k3_t219
  let v1832 : Index := Scalar.indexCast arg13
  let c80 : Index := 80#32
  ![v1832.toNat, 80]
def k3_off877 (i : grid3.Coords) (v408 : BitVec 32) (v414 : BitVec 32) (k3_t219 : Fin (k3_t219_loop i v408 v414).trips) : Fin 2 → Nat :=
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let c1_i32_1196 : BitVec 32 := 1#32
  let arg13 : BitVec 32 := Scf.iv v1624 c1_i32_1196 k3_t219
  let v1836 : Index := Scalar.indexCast arg13
  let c96 : Index := 96#32
  ![v1836.toNat, 96]
def k3_off878 (i : grid3.Coords) (v408 : BitVec 32) (v414 : BitVec 32) (k3_t219 : Fin (k3_t219_loop i v408 v414).trips) : Fin 2 → Nat :=
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let c1_i32_1196 : BitVec 32 := 1#32
  let arg13 : BitVec 32 := Scf.iv v1624 c1_i32_1196 k3_t219
  let v1840 : Index := Scalar.indexCast arg13
  let c112 : Index := 112#32
  ![v1840.toNat, 112]
@[reducible] def k3_t220_loop (i : grid3.Coords) (v408 : BitVec 32) (v414 : BitVec 32) : Scf.Loop 32 :=
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let c256_i32_1059 : BitVec 32 := 256#32
  let c0_i32_1058 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c768_i32_1057 : BitVec 32 := 768#32
  let v1625 : BitVec 32 := Scalar.subi v418 c768_i32_1057
  let v1626 : BitVec 32 := Scalar.maxsi c0_i32_1058 v1625
  let v1627 : BitVec 32 := Scalar.minsi c256_i32_1059 v1626
  let v1805 : BitVec 32 := Scalar.subi v1627 v1624
  let c1_i32_1195 : BitVec 32 := 1#32
  let v1807 : BitVec 32 := Scalar.divsi v1805 c1_i32_1195
  let v1808 : BitVec 32 := Scalar.muli v1807 c1_i32_1195
  let v1809 : BitVec 32 := Scalar.addi v1624 v1808
  let v1806 : BitVec 32 := Scalar.addi v1624 v1805
  let c1_i32_1197 : BitVec 32 := 1#32
  ⟨v1809, v1806, c1_i32_1197⟩
def k3_off879 (i : grid3.Coords) (v408 : BitVec 32) (v414 : BitVec 32) (k3_t220 : Fin (k3_t220_loop i v408 v414).trips) : Fin 2 → Nat :=
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let c256_i32_1059 : BitVec 32 := 256#32
  let c0_i32_1058 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c768_i32_1057 : BitVec 32 := 768#32
  let v1625 : BitVec 32 := Scalar.subi v418 c768_i32_1057
  let v1626 : BitVec 32 := Scalar.maxsi c0_i32_1058 v1625
  let v1627 : BitVec 32 := Scalar.minsi c256_i32_1059 v1626
  let v1805 : BitVec 32 := Scalar.subi v1627 v1624
  let c1_i32_1195 : BitVec 32 := 1#32
  let v1807 : BitVec 32 := Scalar.divsi v1805 c1_i32_1195
  let v1808 : BitVec 32 := Scalar.muli v1807 c1_i32_1195
  let v1809 : BitVec 32 := Scalar.addi v1624 v1808
  let c1_i32_1197 : BitVec 32 := 1#32
  let arg13 : BitVec 32 := Scf.iv v1809 c1_i32_1197 k3_t220
  let v1828 : Index := Scalar.indexCast arg13
  let c64 : Index := 64#32
  ![v1828.toNat, 64]
def k3_off880 (i : grid3.Coords) (v408 : BitVec 32) (v414 : BitVec 32) (k3_t220 : Fin (k3_t220_loop i v408 v414).trips) : Fin 2 → Nat :=
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let c256_i32_1059 : BitVec 32 := 256#32
  let c0_i32_1058 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c768_i32_1057 : BitVec 32 := 768#32
  let v1625 : BitVec 32 := Scalar.subi v418 c768_i32_1057
  let v1626 : BitVec 32 := Scalar.maxsi c0_i32_1058 v1625
  let v1627 : BitVec 32 := Scalar.minsi c256_i32_1059 v1626
  let v1805 : BitVec 32 := Scalar.subi v1627 v1624
  let c1_i32_1195 : BitVec 32 := 1#32
  let v1807 : BitVec 32 := Scalar.divsi v1805 c1_i32_1195
  let v1808 : BitVec 32 := Scalar.muli v1807 c1_i32_1195
  let v1809 : BitVec 32 := Scalar.addi v1624 v1808
  let c1_i32_1197 : BitVec 32 := 1#32
  let arg13 : BitVec 32 := Scf.iv v1809 c1_i32_1197 k3_t220
  let v1832 : Index := Scalar.indexCast arg13
  let c80 : Index := 80#32
  ![v1832.toNat, 80]
def k3_off881 (i : grid3.Coords) (v408 : BitVec 32) (v414 : BitVec 32) (k3_t220 : Fin (k3_t220_loop i v408 v414).trips) : Fin 2 → Nat :=
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let c256_i32_1059 : BitVec 32 := 256#32
  let c0_i32_1058 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c768_i32_1057 : BitVec 32 := 768#32
  let v1625 : BitVec 32 := Scalar.subi v418 c768_i32_1057
  let v1626 : BitVec 32 := Scalar.maxsi c0_i32_1058 v1625
  let v1627 : BitVec 32 := Scalar.minsi c256_i32_1059 v1626
  let v1805 : BitVec 32 := Scalar.subi v1627 v1624
  let c1_i32_1195 : BitVec 32 := 1#32
  let v1807 : BitVec 32 := Scalar.divsi v1805 c1_i32_1195
  let v1808 : BitVec 32 := Scalar.muli v1807 c1_i32_1195
  let v1809 : BitVec 32 := Scalar.addi v1624 v1808
  let c1_i32_1197 : BitVec 32 := 1#32
  let arg13 : BitVec 32 := Scf.iv v1809 c1_i32_1197 k3_t220
  let v1836 : Index := Scalar.indexCast arg13
  let c96 : Index := 96#32
  ![v1836.toNat, 96]
def k3_off882 (i : grid3.Coords) (v408 : BitVec 32) (v414 : BitVec 32) (k3_t220 : Fin (k3_t220_loop i v408 v414).trips) : Fin 2 → Nat :=
  let c256_i32_1056 : BitVec 32 := 256#32
  let c0_i32_1055 : BitVec 32 := 0#32
  let c1024_i32_176 : BitVec 32 := 1024#32
  let c0_i32_175 : BitVec 32 := 0#32
  let c65536_i32_174 : BitVec 32 := 65536#32
  let v409 : BitVec 32 := Scalar.subi v408 c65536_i32_174
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v410 : BitVec 32 := Scalar.subi v409 v3
  let v411 : BitVec 32 := Scalar.maxsi c0_i32_175 v410
  let v412 : BitVec 32 := Scalar.minsi c1024_i32_176 v411
  let c768_i32_1054 : BitVec 32 := 768#32
  let v1622 : BitVec 32 := Scalar.subi v412 c768_i32_1054
  let v1623 : BitVec 32 := Scalar.maxsi c0_i32_1055 v1622
  let v1624 : BitVec 32 := Scalar.minsi c256_i32_1056 v1623
  let c256_i32_1059 : BitVec 32 := 256#32
  let c0_i32_1058 : BitVec 32 := 0#32
  let c1024_i32_179 : BitVec 32 := 1024#32
  let c0_i32_178 : BitVec 32 := 0#32
  let c65536_i32_177 : BitVec 32 := 65536#32
  let v415 : BitVec 32 := Scalar.subi v414 c65536_i32_177
  let v416 : BitVec 32 := Scalar.subi v415 v3
  let v417 : BitVec 32 := Scalar.maxsi c0_i32_178 v416
  let v418 : BitVec 32 := Scalar.minsi c1024_i32_179 v417
  let c768_i32_1057 : BitVec 32 := 768#32
  let v1625 : BitVec 32 := Scalar.subi v418 c768_i32_1057
  let v1626 : BitVec 32 := Scalar.maxsi c0_i32_1058 v1625
  let v1627 : BitVec 32 := Scalar.minsi c256_i32_1059 v1626
  let v1805 : BitVec 32 := Scalar.subi v1627 v1624
  let c1_i32_1195 : BitVec 32 := 1#32
  let v1807 : BitVec 32 := Scalar.divsi v1805 c1_i32_1195
  let v1808 : BitVec 32 := Scalar.muli v1807 c1_i32_1195
  let v1809 : BitVec 32 := Scalar.addi v1624 v1808
  let c1_i32_1197 : BitVec 32 := 1#32
  let arg13 : BitVec 32 := Scf.iv v1809 c1_i32_1197 k3_t220
  let v1840 : Index := Scalar.indexCast arg13
  let c112 : Index := 112#32
  ![v1840.toNat, 112]

def k3_chk14_0 (i : grid3.Coords) (v408 : BitVec 32) (v414 : BitVec 32) : Prop :=
  (∀ (k3_h14 : k3_cond14 i v408 v414 = 1#1), (k3_t27_loop i v408 v414).OK) ∧
  (∀ k3_t27 : Fin (k3_t27_loop i v408 v414).trips, ∀ (k3_h14 : k3_cond14 i v408 v414 = 1#1), ∀ a, (k3_off106 i v408 v414 k3_t27) a + S1x16.size a ≤ S256x128.size a) ∧
  (∀ k3_t27 : Fin (k3_t27_loop i v408 v414).trips, ∀ (k3_h14 : k3_cond14 i v408 v414 = 1#1), ∀ a, (k3_off107 i v408 v414 k3_t27) a + S1x16.size a ≤ S256x128.size a) ∧
  (∀ k3_t27 : Fin (k3_t27_loop i v408 v414).trips, ∀ (k3_h14 : k3_cond14 i v408 v414 = 1#1), ∀ a, (k3_off108 i v408 v414 k3_t27) a + S1x16.size a ≤ S256x128.size a) ∧
  (∀ k3_t27 : Fin (k3_t27_loop i v408 v414).trips, ∀ (k3_h14 : k3_cond14 i v408 v414 = 1#1), ∀ a, (k3_off109 i v408 v414 k3_t27) a + S1x16.size a ≤ S256x128.size a) ∧
  (∀ (k3_h14 : k3_cond14 i v408 v414 = 1#1), (k3_t28_loop i v408 v414).OK) ∧
  (∀ k3_t28 : Fin (k3_t28_loop i v408 v414).trips, ∀ (k3_h14 : k3_cond14 i v408 v414 = 1#1), ∀ a, (k3_off110 i v408 v414 k3_t28) a + S1x16.size a ≤ S256x128.size a) ∧
  (∀ k3_t28 : Fin (k3_t28_loop i v408 v414).trips, ∀ (k3_h14 : k3_cond14 i v408 v414 = 1#1), ∀ a, (k3_off111 i v408 v414 k3_t28) a + S1x16.size a ≤ S256x128.size a) ∧
  (∀ k3_t28 : Fin (k3_t28_loop i v408 v414).trips, ∀ (k3_h14 : k3_cond14 i v408 v414 = 1#1), ∀ a, (k3_off112 i v408 v414 k3_t28) a + S1x16.size a ≤ S256x128.size a) ∧
  (∀ k3_t28 : Fin (k3_t28_loop i v408 v414).trips, ∀ (k3_h14 : k3_cond14 i v408 v414 = 1#1), ∀ a, (k3_off113 i v408 v414 k3_t28) a + S1x16.size a ≤ S256x128.size a) ∧
  (∀ (k3_h46 : k3_cond46 i v408 v414 = 1#1), (k3_t91_loop i v408 v414).OK) ∧
  (∀ k3_t91 : Fin (k3_t91_loop i v408 v414).trips, ∀ (k3_h46 : k3_cond46 i v408 v414 = 1#1), ∀ a, (k3_off363 i v408 v414 k3_t91) a + S1x16.size a ≤ S256x128.size a) ∧
  (∀ k3_t91 : Fin (k3_t91_loop i v408 v414).trips, ∀ (k3_h46 : k3_cond46 i v408 v414 = 1#1), ∀ a, (k3_off364 i v408 v414 k3_t91) a + S1x16.size a ≤ S256x128.size a) ∧
  (∀ k3_t91 : Fin (k3_t91_loop i v408 v414).trips, ∀ (k3_h46 : k3_cond46 i v408 v414 = 1#1), ∀ a, (k3_off365 i v408 v414 k3_t91) a + S1x16.size a ≤ S256x128.size a) ∧
  (∀ k3_t91 : Fin (k3_t91_loop i v408 v414).trips, ∀ (k3_h46 : k3_cond46 i v408 v414 = 1#1), ∀ a, (k3_off366 i v408 v414 k3_t91) a + S1x16.size a ≤ S256x128.size a) ∧
  (∀ (k3_h46 : k3_cond46 i v408 v414 = 1#1), (k3_t92_loop i v408 v414).OK) ∧
  (∀ k3_t92 : Fin (k3_t92_loop i v408 v414).trips, ∀ (k3_h46 : k3_cond46 i v408 v414 = 1#1), ∀ a, (k3_off367 i v408 v414 k3_t92) a + S1x16.size a ≤ S256x128.size a) ∧
  (∀ k3_t92 : Fin (k3_t92_loop i v408 v414).trips, ∀ (k3_h46 : k3_cond46 i v408 v414 = 1#1), ∀ a, (k3_off368 i v408 v414 k3_t92) a + S1x16.size a ≤ S256x128.size a) ∧
  (∀ k3_t92 : Fin (k3_t92_loop i v408 v414).trips, ∀ (k3_h46 : k3_cond46 i v408 v414 = 1#1), ∀ a, (k3_off369 i v408 v414 k3_t92) a + S1x16.size a ≤ S256x128.size a) ∧
  (∀ k3_t92 : Fin (k3_t92_loop i v408 v414).trips, ∀ (k3_h46 : k3_cond46 i v408 v414 = 1#1), ∀ a, (k3_off370 i v408 v414 k3_t92) a + S1x16.size a ≤ S256x128.size a) ∧
  (∀ (k3_h78 : k3_cond78 i v408 v414 = 1#1), (k3_t155_loop i v408 v414).OK) ∧
  (∀ k3_t155 : Fin (k3_t155_loop i v408 v414).trips, ∀ (k3_h78 : k3_cond78 i v408 v414 = 1#1), ∀ a, (k3_off619 i v408 v414 k3_t155) a + S1x16.size a ≤ S256x128.size a) ∧
  (∀ k3_t155 : Fin (k3_t155_loop i v408 v414).trips, ∀ (k3_h78 : k3_cond78 i v408 v414 = 1#1), ∀ a, (k3_off620 i v408 v414 k3_t155) a + S1x16.size a ≤ S256x128.size a) ∧
  (∀ k3_t155 : Fin (k3_t155_loop i v408 v414).trips, ∀ (k3_h78 : k3_cond78 i v408 v414 = 1#1), ∀ a, (k3_off621 i v408 v414 k3_t155) a + S1x16.size a ≤ S256x128.size a) ∧
  (∀ k3_t155 : Fin (k3_t155_loop i v408 v414).trips, ∀ (k3_h78 : k3_cond78 i v408 v414 = 1#1), ∀ a, (k3_off622 i v408 v414 k3_t155) a + S1x16.size a ≤ S256x128.size a) ∧
  (∀ (k3_h78 : k3_cond78 i v408 v414 = 1#1), (k3_t156_loop i v408 v414).OK) ∧
  (∀ k3_t156 : Fin (k3_t156_loop i v408 v414).trips, ∀ (k3_h78 : k3_cond78 i v408 v414 = 1#1), ∀ a, (k3_off623 i v408 v414 k3_t156) a + S1x16.size a ≤ S256x128.size a) ∧
  (∀ k3_t156 : Fin (k3_t156_loop i v408 v414).trips, ∀ (k3_h78 : k3_cond78 i v408 v414 = 1#1), ∀ a, (k3_off624 i v408 v414 k3_t156) a + S1x16.size a ≤ S256x128.size a) ∧
  (∀ k3_t156 : Fin (k3_t156_loop i v408 v414).trips, ∀ (k3_h78 : k3_cond78 i v408 v414 = 1#1), ∀ a, (k3_off625 i v408 v414 k3_t156) a + S1x16.size a ≤ S256x128.size a) ∧
  (∀ k3_t156 : Fin (k3_t156_loop i v408 v414).trips, ∀ (k3_h78 : k3_cond78 i v408 v414 = 1#1), ∀ a, (k3_off626 i v408 v414 k3_t156) a + S1x16.size a ≤ S256x128.size a) ∧
  (∀ (k3_h110 : k3_cond110 i v408 v414 = 1#1), (k3_t219_loop i v408 v414).OK) ∧
  (∀ k3_t219 : Fin (k3_t219_loop i v408 v414).trips, ∀ (k3_h110 : k3_cond110 i v408 v414 = 1#1), ∀ a, (k3_off875 i v408 v414 k3_t219) a + S1x16.size a ≤ S256x128.size a)
def k3_chk14_1 (i : grid3.Coords) (v408 : BitVec 32) (v414 : BitVec 32) : Prop :=
  (∀ k3_t219 : Fin (k3_t219_loop i v408 v414).trips, ∀ (k3_h110 : k3_cond110 i v408 v414 = 1#1), ∀ a, (k3_off876 i v408 v414 k3_t219) a + S1x16.size a ≤ S256x128.size a) ∧
  (∀ k3_t219 : Fin (k3_t219_loop i v408 v414).trips, ∀ (k3_h110 : k3_cond110 i v408 v414 = 1#1), ∀ a, (k3_off877 i v408 v414 k3_t219) a + S1x16.size a ≤ S256x128.size a) ∧
  (∀ k3_t219 : Fin (k3_t219_loop i v408 v414).trips, ∀ (k3_h110 : k3_cond110 i v408 v414 = 1#1), ∀ a, (k3_off878 i v408 v414 k3_t219) a + S1x16.size a ≤ S256x128.size a) ∧
  (∀ (k3_h110 : k3_cond110 i v408 v414 = 1#1), (k3_t220_loop i v408 v414).OK) ∧
  (∀ k3_t220 : Fin (k3_t220_loop i v408 v414).trips, ∀ (k3_h110 : k3_cond110 i v408 v414 = 1#1), ∀ a, (k3_off879 i v408 v414 k3_t220) a + S1x16.size a ≤ S256x128.size a) ∧
  (∀ k3_t220 : Fin (k3_t220_loop i v408 v414).trips, ∀ (k3_h110 : k3_cond110 i v408 v414 = 1#1), ∀ a, (k3_off880 i v408 v414 k3_t220) a + S1x16.size a ≤ S256x128.size a) ∧
  (∀ k3_t220 : Fin (k3_t220_loop i v408 v414).trips, ∀ (k3_h110 : k3_cond110 i v408 v414 = 1#1), ∀ a, (k3_off881 i v408 v414 k3_t220) a + S1x16.size a ≤ S256x128.size a) ∧
  (∀ k3_t220 : Fin (k3_t220_loop i v408 v414).trips, ∀ (k3_h110 : k3_cond110 i v408 v414 = 1#1), ∀ a, (k3_off882 i v408 v414 k3_t220) a + S1x16.size a ≤ S256x128.size a)
def k3_chk14 (i : grid3.Coords) (v408 : BitVec 32) (v414 : BitVec 32) : Prop :=
  k3_chk14_0 i v408 v414 ∧
  k3_chk14_1 i v408 v414
theorem k3_t27_ok : ∀ (i : grid3.Coords) (v408 : BitVec 32) (v414 : BitVec 32) (k3_hw14 : k3_chk14 i v408 v414), ∀ (k3_h14 : k3_cond14 i v408 v414 = 1#1), (k3_t27_loop i v408 v414).OK := fun i v408 v414 k3_hw14 k3_h14 => k3_hw14.1.1 k3_h14
theorem k3_off106_inb : ∀ (i : grid3.Coords) (v408 : BitVec 32) (v414 : BitVec 32) (k3_hw14 : k3_chk14 i v408 v414) (k3_t27 : Fin (k3_t27_loop i v408 v414).trips), ∀ (k3_h14 : k3_cond14 i v408 v414 = 1#1), ∀ a, (k3_off106 i v408 v414 k3_t27) a + S1x16.size a ≤ S256x128.size a := fun i v408 v414 k3_hw14 k3_t27 k3_h14 => k3_hw14.1.2.1 k3_t27 k3_h14
theorem k3_off107_inb : ∀ (i : grid3.Coords) (v408 : BitVec 32) (v414 : BitVec 32) (k3_hw14 : k3_chk14 i v408 v414) (k3_t27 : Fin (k3_t27_loop i v408 v414).trips), ∀ (k3_h14 : k3_cond14 i v408 v414 = 1#1), ∀ a, (k3_off107 i v408 v414 k3_t27) a + S1x16.size a ≤ S256x128.size a := fun i v408 v414 k3_hw14 k3_t27 k3_h14 => k3_hw14.1.2.2.1 k3_t27 k3_h14
theorem k3_off108_inb : ∀ (i : grid3.Coords) (v408 : BitVec 32) (v414 : BitVec 32) (k3_hw14 : k3_chk14 i v408 v414) (k3_t27 : Fin (k3_t27_loop i v408 v414).trips), ∀ (k3_h14 : k3_cond14 i v408 v414 = 1#1), ∀ a, (k3_off108 i v408 v414 k3_t27) a + S1x16.size a ≤ S256x128.size a := fun i v408 v414 k3_hw14 k3_t27 k3_h14 => k3_hw14.1.2.2.2.1 k3_t27 k3_h14
theorem k3_off109_inb : ∀ (i : grid3.Coords) (v408 : BitVec 32) (v414 : BitVec 32) (k3_hw14 : k3_chk14 i v408 v414) (k3_t27 : Fin (k3_t27_loop i v408 v414).trips), ∀ (k3_h14 : k3_cond14 i v408 v414 = 1#1), ∀ a, (k3_off109 i v408 v414 k3_t27) a + S1x16.size a ≤ S256x128.size a := fun i v408 v414 k3_hw14 k3_t27 k3_h14 => k3_hw14.1.2.2.2.2.1 k3_t27 k3_h14
theorem k3_t28_ok : ∀ (i : grid3.Coords) (v408 : BitVec 32) (v414 : BitVec 32) (k3_hw14 : k3_chk14 i v408 v414), ∀ (k3_h14 : k3_cond14 i v408 v414 = 1#1), (k3_t28_loop i v408 v414).OK := fun i v408 v414 k3_hw14 k3_h14 => k3_hw14.1.2.2.2.2.2.1 k3_h14
theorem k3_off110_inb : ∀ (i : grid3.Coords) (v408 : BitVec 32) (v414 : BitVec 32) (k3_hw14 : k3_chk14 i v408 v414) (k3_t28 : Fin (k3_t28_loop i v408 v414).trips), ∀ (k3_h14 : k3_cond14 i v408 v414 = 1#1), ∀ a, (k3_off110 i v408 v414 k3_t28) a + S1x16.size a ≤ S256x128.size a := fun i v408 v414 k3_hw14 k3_t28 k3_h14 => k3_hw14.1.2.2.2.2.2.2.1 k3_t28 k3_h14
theorem k3_off111_inb : ∀ (i : grid3.Coords) (v408 : BitVec 32) (v414 : BitVec 32) (k3_hw14 : k3_chk14 i v408 v414) (k3_t28 : Fin (k3_t28_loop i v408 v414).trips), ∀ (k3_h14 : k3_cond14 i v408 v414 = 1#1), ∀ a, (k3_off111 i v408 v414 k3_t28) a + S1x16.size a ≤ S256x128.size a := fun i v408 v414 k3_hw14 k3_t28 k3_h14 => k3_hw14.1.2.2.2.2.2.2.2.1 k3_t28 k3_h14
theorem k3_off112_inb : ∀ (i : grid3.Coords) (v408 : BitVec 32) (v414 : BitVec 32) (k3_hw14 : k3_chk14 i v408 v414) (k3_t28 : Fin (k3_t28_loop i v408 v414).trips), ∀ (k3_h14 : k3_cond14 i v408 v414 = 1#1), ∀ a, (k3_off112 i v408 v414 k3_t28) a + S1x16.size a ≤ S256x128.size a := fun i v408 v414 k3_hw14 k3_t28 k3_h14 => k3_hw14.1.2.2.2.2.2.2.2.2.1 k3_t28 k3_h14
theorem k3_off113_inb : ∀ (i : grid3.Coords) (v408 : BitVec 32) (v414 : BitVec 32) (k3_hw14 : k3_chk14 i v408 v414) (k3_t28 : Fin (k3_t28_loop i v408 v414).trips), ∀ (k3_h14 : k3_cond14 i v408 v414 = 1#1), ∀ a, (k3_off113 i v408 v414 k3_t28) a + S1x16.size a ≤ S256x128.size a := fun i v408 v414 k3_hw14 k3_t28 k3_h14 => k3_hw14.1.2.2.2.2.2.2.2.2.2.1 k3_t28 k3_h14
theorem k3_t91_ok : ∀ (i : grid3.Coords) (v408 : BitVec 32) (v414 : BitVec 32) (k3_hw14 : k3_chk14 i v408 v414), ∀ (k3_h46 : k3_cond46 i v408 v414 = 1#1), (k3_t91_loop i v408 v414).OK := fun i v408 v414 k3_hw14 k3_h46 => k3_hw14.1.2.2.2.2.2.2.2.2.2.2.1 k3_h46
theorem k3_off363_inb : ∀ (i : grid3.Coords) (v408 : BitVec 32) (v414 : BitVec 32) (k3_hw14 : k3_chk14 i v408 v414) (k3_t91 : Fin (k3_t91_loop i v408 v414).trips), ∀ (k3_h46 : k3_cond46 i v408 v414 = 1#1), ∀ a, (k3_off363 i v408 v414 k3_t91) a + S1x16.size a ≤ S256x128.size a := fun i v408 v414 k3_hw14 k3_t91 k3_h46 => k3_hw14.1.2.2.2.2.2.2.2.2.2.2.2.1 k3_t91 k3_h46
theorem k3_off364_inb : ∀ (i : grid3.Coords) (v408 : BitVec 32) (v414 : BitVec 32) (k3_hw14 : k3_chk14 i v408 v414) (k3_t91 : Fin (k3_t91_loop i v408 v414).trips), ∀ (k3_h46 : k3_cond46 i v408 v414 = 1#1), ∀ a, (k3_off364 i v408 v414 k3_t91) a + S1x16.size a ≤ S256x128.size a := fun i v408 v414 k3_hw14 k3_t91 k3_h46 => k3_hw14.1.2.2.2.2.2.2.2.2.2.2.2.2.1 k3_t91 k3_h46
theorem k3_off365_inb : ∀ (i : grid3.Coords) (v408 : BitVec 32) (v414 : BitVec 32) (k3_hw14 : k3_chk14 i v408 v414) (k3_t91 : Fin (k3_t91_loop i v408 v414).trips), ∀ (k3_h46 : k3_cond46 i v408 v414 = 1#1), ∀ a, (k3_off365 i v408 v414 k3_t91) a + S1x16.size a ≤ S256x128.size a := fun i v408 v414 k3_hw14 k3_t91 k3_h46 => k3_hw14.1.2.2.2.2.2.2.2.2.2.2.2.2.2.1 k3_t91 k3_h46
theorem k3_off366_inb : ∀ (i : grid3.Coords) (v408 : BitVec 32) (v414 : BitVec 32) (k3_hw14 : k3_chk14 i v408 v414) (k3_t91 : Fin (k3_t91_loop i v408 v414).trips), ∀ (k3_h46 : k3_cond46 i v408 v414 = 1#1), ∀ a, (k3_off366 i v408 v414 k3_t91) a + S1x16.size a ≤ S256x128.size a := fun i v408 v414 k3_hw14 k3_t91 k3_h46 => k3_hw14.1.2.2.2.2.2.2.2.2.2.2.2.2.2.2.1 k3_t91 k3_h46
theorem k3_t92_ok : ∀ (i : grid3.Coords) (v408 : BitVec 32) (v414 : BitVec 32) (k3_hw14 : k3_chk14 i v408 v414), ∀ (k3_h46 : k3_cond46 i v408 v414 = 1#1), (k3_t92_loop i v408 v414).OK := fun i v408 v414 k3_hw14 k3_h46 => k3_hw14.1.2.2.2.2.2.2.2.2.2.2.2.2.2.2.2.1 k3_h46
theorem k3_off367_inb : ∀ (i : grid3.Coords) (v408 : BitVec 32) (v414 : BitVec 32) (k3_hw14 : k3_chk14 i v408 v414) (k3_t92 : Fin (k3_t92_loop i v408 v414).trips), ∀ (k3_h46 : k3_cond46 i v408 v414 = 1#1), ∀ a, (k3_off367 i v408 v414 k3_t92) a + S1x16.size a ≤ S256x128.size a := fun i v408 v414 k3_hw14 k3_t92 k3_h46 => k3_hw14.1.2.2.2.2.2.2.2.2.2.2.2.2.2.2.2.2.1 k3_t92 k3_h46
theorem k3_off368_inb : ∀ (i : grid3.Coords) (v408 : BitVec 32) (v414 : BitVec 32) (k3_hw14 : k3_chk14 i v408 v414) (k3_t92 : Fin (k3_t92_loop i v408 v414).trips), ∀ (k3_h46 : k3_cond46 i v408 v414 = 1#1), ∀ a, (k3_off368 i v408 v414 k3_t92) a + S1x16.size a ≤ S256x128.size a := fun i v408 v414 k3_hw14 k3_t92 k3_h46 => k3_hw14.1.2.2.2.2.2.2.2.2.2.2.2.2.2.2.2.2.2.1 k3_t92 k3_h46
theorem k3_off369_inb : ∀ (i : grid3.Coords) (v408 : BitVec 32) (v414 : BitVec 32) (k3_hw14 : k3_chk14 i v408 v414) (k3_t92 : Fin (k3_t92_loop i v408 v414).trips), ∀ (k3_h46 : k3_cond46 i v408 v414 = 1#1), ∀ a, (k3_off369 i v408 v414 k3_t92) a + S1x16.size a ≤ S256x128.size a := fun i v408 v414 k3_hw14 k3_t92 k3_h46 => k3_hw14.1.2.2.2.2.2.2.2.2.2.2.2.2.2.2.2.2.2.2.1 k3_t92 k3_h46
theorem k3_off370_inb : ∀ (i : grid3.Coords) (v408 : BitVec 32) (v414 : BitVec 32) (k3_hw14 : k3_chk14 i v408 v414) (k3_t92 : Fin (k3_t92_loop i v408 v414).trips), ∀ (k3_h46 : k3_cond46 i v408 v414 = 1#1), ∀ a, (k3_off370 i v408 v414 k3_t92) a + S1x16.size a ≤ S256x128.size a := fun i v408 v414 k3_hw14 k3_t92 k3_h46 => k3_hw14.1.2.2.2.2.2.2.2.2.2.2.2.2.2.2.2.2.2.2.2.1 k3_t92 k3_h46
theorem k3_t155_ok : ∀ (i : grid3.Coords) (v408 : BitVec 32) (v414 : BitVec 32) (k3_hw14 : k3_chk14 i v408 v414), ∀ (k3_h78 : k3_cond78 i v408 v414 = 1#1), (k3_t155_loop i v408 v414).OK := fun i v408 v414 k3_hw14 k3_h78 => k3_hw14.1.2.2.2.2.2.2.2.2.2.2.2.2.2.2.2.2.2.2.2.2.1 k3_h78
theorem k3_off619_inb : ∀ (i : grid3.Coords) (v408 : BitVec 32) (v414 : BitVec 32) (k3_hw14 : k3_chk14 i v408 v414) (k3_t155 : Fin (k3_t155_loop i v408 v414).trips), ∀ (k3_h78 : k3_cond78 i v408 v414 = 1#1), ∀ a, (k3_off619 i v408 v414 k3_t155) a + S1x16.size a ≤ S256x128.size a := fun i v408 v414 k3_hw14 k3_t155 k3_h78 => k3_hw14.1.2.2.2.2.2.2.2.2.2.2.2.2.2.2.2.2.2.2.2.2.2.1 k3_t155 k3_h78
theorem k3_off620_inb : ∀ (i : grid3.Coords) (v408 : BitVec 32) (v414 : BitVec 32) (k3_hw14 : k3_chk14 i v408 v414) (k3_t155 : Fin (k3_t155_loop i v408 v414).trips), ∀ (k3_h78 : k3_cond78 i v408 v414 = 1#1), ∀ a, (k3_off620 i v408 v414 k3_t155) a + S1x16.size a ≤ S256x128.size a := fun i v408 v414 k3_hw14 k3_t155 k3_h78 => k3_hw14.1.2.2.2.2.2.2.2.2.2.2.2.2.2.2.2.2.2.2.2.2.2.2.1 k3_t155 k3_h78
theorem k3_off621_inb : ∀ (i : grid3.Coords) (v408 : BitVec 32) (v414 : BitVec 32) (k3_hw14 : k3_chk14 i v408 v414) (k3_t155 : Fin (k3_t155_loop i v408 v414).trips), ∀ (k3_h78 : k3_cond78 i v408 v414 = 1#1), ∀ a, (k3_off621 i v408 v414 k3_t155) a + S1x16.size a ≤ S256x128.size a := fun i v408 v414 k3_hw14 k3_t155 k3_h78 => k3_hw14.1.2.2.2.2.2.2.2.2.2.2.2.2.2.2.2.2.2.2.2.2.2.2.2.1 k3_t155 k3_h78
theorem k3_off622_inb : ∀ (i : grid3.Coords) (v408 : BitVec 32) (v414 : BitVec 32) (k3_hw14 : k3_chk14 i v408 v414) (k3_t155 : Fin (k3_t155_loop i v408 v414).trips), ∀ (k3_h78 : k3_cond78 i v408 v414 = 1#1), ∀ a, (k3_off622 i v408 v414 k3_t155) a + S1x16.size a ≤ S256x128.size a := fun i v408 v414 k3_hw14 k3_t155 k3_h78 => k3_hw14.1.2.2.2.2.2.2.2.2.2.2.2.2.2.2.2.2.2.2.2.2.2.2.2.2.1 k3_t155 k3_h78
theorem k3_t156_ok : ∀ (i : grid3.Coords) (v408 : BitVec 32) (v414 : BitVec 32) (k3_hw14 : k3_chk14 i v408 v414), ∀ (k3_h78 : k3_cond78 i v408 v414 = 1#1), (k3_t156_loop i v408 v414).OK := fun i v408 v414 k3_hw14 k3_h78 => k3_hw14.1.2.2.2.2.2.2.2.2.2.2.2.2.2.2.2.2.2.2.2.2.2.2.2.2.2.1 k3_h78
theorem k3_off623_inb : ∀ (i : grid3.Coords) (v408 : BitVec 32) (v414 : BitVec 32) (k3_hw14 : k3_chk14 i v408 v414) (k3_t156 : Fin (k3_t156_loop i v408 v414).trips), ∀ (k3_h78 : k3_cond78 i v408 v414 = 1#1), ∀ a, (k3_off623 i v408 v414 k3_t156) a + S1x16.size a ≤ S256x128.size a := fun i v408 v414 k3_hw14 k3_t156 k3_h78 => k3_hw14.1.2.2.2.2.2.2.2.2.2.2.2.2.2.2.2.2.2.2.2.2.2.2.2.2.2.2.1 k3_t156 k3_h78
theorem k3_off624_inb : ∀ (i : grid3.Coords) (v408 : BitVec 32) (v414 : BitVec 32) (k3_hw14 : k3_chk14 i v408 v414) (k3_t156 : Fin (k3_t156_loop i v408 v414).trips), ∀ (k3_h78 : k3_cond78 i v408 v414 = 1#1), ∀ a, (k3_off624 i v408 v414 k3_t156) a + S1x16.size a ≤ S256x128.size a := fun i v408 v414 k3_hw14 k3_t156 k3_h78 => k3_hw14.1.2.2.2.2.2.2.2.2.2.2.2.2.2.2.2.2.2.2.2.2.2.2.2.2.2.2.2.1 k3_t156 k3_h78
theorem k3_off625_inb : ∀ (i : grid3.Coords) (v408 : BitVec 32) (v414 : BitVec 32) (k3_hw14 : k3_chk14 i v408 v414) (k3_t156 : Fin (k3_t156_loop i v408 v414).trips), ∀ (k3_h78 : k3_cond78 i v408 v414 = 1#1), ∀ a, (k3_off625 i v408 v414 k3_t156) a + S1x16.size a ≤ S256x128.size a := fun i v408 v414 k3_hw14 k3_t156 k3_h78 => k3_hw14.1.2.2.2.2.2.2.2.2.2.2.2.2.2.2.2.2.2.2.2.2.2.2.2.2.2.2.2.2.1 k3_t156 k3_h78
theorem k3_off626_inb : ∀ (i : grid3.Coords) (v408 : BitVec 32) (v414 : BitVec 32) (k3_hw14 : k3_chk14 i v408 v414) (k3_t156 : Fin (k3_t156_loop i v408 v414).trips), ∀ (k3_h78 : k3_cond78 i v408 v414 = 1#1), ∀ a, (k3_off626 i v408 v414 k3_t156) a + S1x16.size a ≤ S256x128.size a := fun i v408 v414 k3_hw14 k3_t156 k3_h78 => k3_hw14.1.2.2.2.2.2.2.2.2.2.2.2.2.2.2.2.2.2.2.2.2.2.2.2.2.2.2.2.2.2.1 k3_t156 k3_h78
theorem k3_t219_ok : ∀ (i : grid3.Coords) (v408 : BitVec 32) (v414 : BitVec 32) (k3_hw14 : k3_chk14 i v408 v414), ∀ (k3_h110 : k3_cond110 i v408 v414 = 1#1), (k3_t219_loop i v408 v414).OK := fun i v408 v414 k3_hw14 k3_h110 => k3_hw14.1.2.2.2.2.2.2.2.2.2.2.2.2.2.2.2.2.2.2.2.2.2.2.2.2.2.2.2.2.2.2.1 k3_h110
theorem k3_off875_inb : ∀ (i : grid3.Coords) (v408 : BitVec 32) (v414 : BitVec 32) (k3_hw14 : k3_chk14 i v408 v414) (k3_t219 : Fin (k3_t219_loop i v408 v414).trips), ∀ (k3_h110 : k3_cond110 i v408 v414 = 1#1), ∀ a, (k3_off875 i v408 v414 k3_t219) a + S1x16.size a ≤ S256x128.size a := fun i v408 v414 k3_hw14 k3_t219 k3_h110 => k3_hw14.1.2.2.2.2.2.2.2.2.2.2.2.2.2.2.2.2.2.2.2.2.2.2.2.2.2.2.2.2.2.2.2 k3_t219 k3_h110
theorem k3_off876_inb : ∀ (i : grid3.Coords) (v408 : BitVec 32) (v414 : BitVec 32) (k3_hw14 : k3_chk14 i v408 v414) (k3_t219 : Fin (k3_t219_loop i v408 v414).trips), ∀ (k3_h110 : k3_cond110 i v408 v414 = 1#1), ∀ a, (k3_off876 i v408 v414 k3_t219) a + S1x16.size a ≤ S256x128.size a := fun i v408 v414 k3_hw14 k3_t219 k3_h110 => k3_hw14.2.1 k3_t219 k3_h110
theorem k3_off877_inb : ∀ (i : grid3.Coords) (v408 : BitVec 32) (v414 : BitVec 32) (k3_hw14 : k3_chk14 i v408 v414) (k3_t219 : Fin (k3_t219_loop i v408 v414).trips), ∀ (k3_h110 : k3_cond110 i v408 v414 = 1#1), ∀ a, (k3_off877 i v408 v414 k3_t219) a + S1x16.size a ≤ S256x128.size a := fun i v408 v414 k3_hw14 k3_t219 k3_h110 => k3_hw14.2.2.1 k3_t219 k3_h110
theorem k3_off878_inb : ∀ (i : grid3.Coords) (v408 : BitVec 32) (v414 : BitVec 32) (k3_hw14 : k3_chk14 i v408 v414) (k3_t219 : Fin (k3_t219_loop i v408 v414).trips), ∀ (k3_h110 : k3_cond110 i v408 v414 = 1#1), ∀ a, (k3_off878 i v408 v414 k3_t219) a + S1x16.size a ≤ S256x128.size a := fun i v408 v414 k3_hw14 k3_t219 k3_h110 => k3_hw14.2.2.2.1 k3_t219 k3_h110
theorem k3_t220_ok : ∀ (i : grid3.Coords) (v408 : BitVec 32) (v414 : BitVec 32) (k3_hw14 : k3_chk14 i v408 v414), ∀ (k3_h110 : k3_cond110 i v408 v414 = 1#1), (k3_t220_loop i v408 v414).OK := fun i v408 v414 k3_hw14 k3_h110 => k3_hw14.2.2.2.2.1 k3_h110
theorem k3_off879_inb : ∀ (i : grid3.Coords) (v408 : BitVec 32) (v414 : BitVec 32) (k3_hw14 : k3_chk14 i v408 v414) (k3_t220 : Fin (k3_t220_loop i v408 v414).trips), ∀ (k3_h110 : k3_cond110 i v408 v414 = 1#1), ∀ a, (k3_off879 i v408 v414 k3_t220) a + S1x16.size a ≤ S256x128.size a := fun i v408 v414 k3_hw14 k3_t220 k3_h110 => k3_hw14.2.2.2.2.2.1 k3_t220 k3_h110
theorem k3_off880_inb : ∀ (i : grid3.Coords) (v408 : BitVec 32) (v414 : BitVec 32) (k3_hw14 : k3_chk14 i v408 v414) (k3_t220 : Fin (k3_t220_loop i v408 v414).trips), ∀ (k3_h110 : k3_cond110 i v408 v414 = 1#1), ∀ a, (k3_off880 i v408 v414 k3_t220) a + S1x16.size a ≤ S256x128.size a := fun i v408 v414 k3_hw14 k3_t220 k3_h110 => k3_hw14.2.2.2.2.2.2.1 k3_t220 k3_h110
theorem k3_off881_inb : ∀ (i : grid3.Coords) (v408 : BitVec 32) (v414 : BitVec 32) (k3_hw14 : k3_chk14 i v408 v414) (k3_t220 : Fin (k3_t220_loop i v408 v414).trips), ∀ (k3_h110 : k3_cond110 i v408 v414 = 1#1), ∀ a, (k3_off881 i v408 v414 k3_t220) a + S1x16.size a ≤ S256x128.size a := fun i v408 v414 k3_hw14 k3_t220 k3_h110 => k3_hw14.2.2.2.2.2.2.2.1 k3_t220 k3_h110
theorem k3_off882_inb : ∀ (i : grid3.Coords) (v408 : BitVec 32) (v414 : BitVec 32) (k3_hw14 : k3_chk14 i v408 v414) (k3_t220 : Fin (k3_t220_loop i v408 v414).trips), ∀ (k3_h110 : k3_cond110 i v408 v414 = 1#1), ∀ a, (k3_off882 i v408 v414 k3_t220) a + S1x16.size a ≤ S256x128.size a := fun i v408 v414 k3_hw14 k3_t220 k3_h110 => k3_hw14.2.2.2.2.2.2.2.2 k3_t220 k3_h110

@[reducible] def k3_t221_loop (i : grid3.Coords) (v420 : BitVec 32) (v425 : BitVec 32) : Scf.Loop 32 :=
  let c256_i32_1063 : BitVec 32 := 256#32
  let c0_i32_1062 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let c256_i32_1066 : BitVec 32 := 256#32
  let c0_i32_1065 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c768_i32_1064 : BitVec 32 := 768#32
  let v1634 : BitVec 32 := Scalar.subi v428 c768_i32_1064
  let v1635 : BitVec 32 := Scalar.maxsi c0_i32_1065 v1634
  let v1636 : BitVec 32 := Scalar.minsi c256_i32_1066 v1635
  let v1805 : BitVec 32 := Scalar.subi v1636 v1633
  let c1_i32_1195 : BitVec 32 := 1#32
  let v1807 : BitVec 32 := Scalar.divsi v1805 c1_i32_1195
  let v1808 : BitVec 32 := Scalar.muli v1807 c1_i32_1195
  let v1809 : BitVec 32 := Scalar.addi v1633 v1808
  let c1_i32_1196 : BitVec 32 := 1#32
  ⟨v1633, v1809, c1_i32_1196⟩
def k3_cond111 (i : grid3.Coords) (v420 : BitVec 32) (v425 : BitVec 32) : BitVec 1 :=
  let c256_i32_1066 : BitVec 32 := 256#32
  let c0_i32_1065 : BitVec 32 := 0#32
  let c1024_i32_183 : BitVec 32 := 1024#32
  let c0_i32_182 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v426 : BitVec 32 := Scalar.subi v425 v3
  let v427 : BitVec 32 := Scalar.maxsi c0_i32_182 v426
  let v428 : BitVec 32 := Scalar.minsi c1024_i32_183 v427
  let c768_i32_1064 : BitVec 32 := 768#32
  let v1634 : BitVec 32 := Scalar.subi v428 c768_i32_1064
  let v1635 : BitVec 32 := Scalar.maxsi c0_i32_1065 v1634
  let v1636 : BitVec 32 := Scalar.minsi c256_i32_1066 v1635
  let c256_i32_1063 : BitVec 32 := 256#32
  let c0_i32_1062 : BitVec 32 := 0#32
  let c1024_i32_181 : BitVec 32 := 1024#32
  let c0_i32_180 : BitVec 32 := 0#32
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let v1637 : BitVec 1 := Scalar.cmpi .sgt v1636 v1633
  let v1638 : BitVec 32 := Scalar.extui v1637
  let c0_i32_1067 : BitVec 32 := 0#32
  let v1639 : BitVec 1 := Scalar.cmpi .ne v1638 c0_i32_1067
  v1639

def k3_off883 (i : grid3.Coords) (v420 : BitVec 32) (v425 : BitVec 32) (k3_t221 : Fin (k3_t221_loop i v420 v425).trips) : Fin 2 → Nat :=
  let c256_i32_1063 : BitVec 32 := 256#32
  let c0_i32_1062 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let c1_i32_1196 : BitVec 32 := 1#32
  let arg13 : BitVec 32 := Scf.iv v1633 c1_i32_1196 k3_t221
  let v1828 : Index := Scalar.indexCast arg13
  let c0_1206 : Index := 0#32
  ![v1828.toNat, 0]
def k3_off884 (i : grid3.Coords) (v420 : BitVec 32) (v425 : BitVec 32) (k3_t221 : Fin (k3_t221_loop i v420 v425).trips) : Fin 2 → Nat :=
  let c256_i32_1063 : BitVec 32 := 256#32
  let c0_i32_1062 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let c1_i32_1196 : BitVec 32 := 1#32
  let arg13 : BitVec 32 := Scf.iv v1633 c1_i32_1196 k3_t221
  let v1832 : Index := Scalar.indexCast arg13
  let c16_1207 : Index := 16#32
  ![v1832.toNat, 16]
def k3_off885 (i : grid3.Coords) (v420 : BitVec 32) (v425 : BitVec 32) (k3_t221 : Fin (k3_t221_loop i v420 v425).trips) : Fin 2 → Nat :=
  let c256_i32_1063 : BitVec 32 := 256#32
  let c0_i32_1062 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let c1_i32_1196 : BitVec 32 := 1#32
  let arg13 : BitVec 32 := Scf.iv v1633 c1_i32_1196 k3_t221
  let v1836 : Index := Scalar.indexCast arg13
  let c32_1208 : Index := 32#32
  ![v1836.toNat, 32]
def k3_off886 (i : grid3.Coords) (v420 : BitVec 32) (v425 : BitVec 32) (k3_t221 : Fin (k3_t221_loop i v420 v425).trips) : Fin 2 → Nat :=
  let c256_i32_1063 : BitVec 32 := 256#32
  let c0_i32_1062 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let c1_i32_1196 : BitVec 32 := 1#32
  let arg13 : BitVec 32 := Scf.iv v1633 c1_i32_1196 k3_t221
  let v1840 : Index := Scalar.indexCast arg13
  let c48_1209 : Index := 48#32
  ![v1840.toNat, 48]
@[reducible] def k3_t222_loop (i : grid3.Coords) (v420 : BitVec 32) (v425 : BitVec 32) : Scf.Loop 32 :=
  let c256_i32_1063 : BitVec 32 := 256#32
  let c0_i32_1062 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let c256_i32_1066 : BitVec 32 := 256#32
  let c0_i32_1065 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c768_i32_1064 : BitVec 32 := 768#32
  let v1634 : BitVec 32 := Scalar.subi v428 c768_i32_1064
  let v1635 : BitVec 32 := Scalar.maxsi c0_i32_1065 v1634
  let v1636 : BitVec 32 := Scalar.minsi c256_i32_1066 v1635
  let v1805 : BitVec 32 := Scalar.subi v1636 v1633
  let c1_i32_1195 : BitVec 32 := 1#32
  let v1807 : BitVec 32 := Scalar.divsi v1805 c1_i32_1195
  let v1808 : BitVec 32 := Scalar.muli v1807 c1_i32_1195
  let v1809 : BitVec 32 := Scalar.addi v1633 v1808
  let v1806 : BitVec 32 := Scalar.addi v1633 v1805
  let c1_i32_1197 : BitVec 32 := 1#32
  ⟨v1809, v1806, c1_i32_1197⟩
def k3_off887 (i : grid3.Coords) (v420 : BitVec 32) (v425 : BitVec 32) (k3_t222 : Fin (k3_t222_loop i v420 v425).trips) : Fin 2 → Nat :=
  let c256_i32_1063 : BitVec 32 := 256#32
  let c0_i32_1062 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let c256_i32_1066 : BitVec 32 := 256#32
  let c0_i32_1065 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c768_i32_1064 : BitVec 32 := 768#32
  let v1634 : BitVec 32 := Scalar.subi v428 c768_i32_1064
  let v1635 : BitVec 32 := Scalar.maxsi c0_i32_1065 v1634
  let v1636 : BitVec 32 := Scalar.minsi c256_i32_1066 v1635
  let v1805 : BitVec 32 := Scalar.subi v1636 v1633
  let c1_i32_1195 : BitVec 32 := 1#32
  let v1807 : BitVec 32 := Scalar.divsi v1805 c1_i32_1195
  let v1808 : BitVec 32 := Scalar.muli v1807 c1_i32_1195
  let v1809 : BitVec 32 := Scalar.addi v1633 v1808
  let c1_i32_1197 : BitVec 32 := 1#32
  let arg13 : BitVec 32 := Scf.iv v1809 c1_i32_1197 k3_t222
  let v1828 : Index := Scalar.indexCast arg13
  let c0_1206 : Index := 0#32
  ![v1828.toNat, 0]
def k3_off888 (i : grid3.Coords) (v420 : BitVec 32) (v425 : BitVec 32) (k3_t222 : Fin (k3_t222_loop i v420 v425).trips) : Fin 2 → Nat :=
  let c256_i32_1063 : BitVec 32 := 256#32
  let c0_i32_1062 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let c256_i32_1066 : BitVec 32 := 256#32
  let c0_i32_1065 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c768_i32_1064 : BitVec 32 := 768#32
  let v1634 : BitVec 32 := Scalar.subi v428 c768_i32_1064
  let v1635 : BitVec 32 := Scalar.maxsi c0_i32_1065 v1634
  let v1636 : BitVec 32 := Scalar.minsi c256_i32_1066 v1635
  let v1805 : BitVec 32 := Scalar.subi v1636 v1633
  let c1_i32_1195 : BitVec 32 := 1#32
  let v1807 : BitVec 32 := Scalar.divsi v1805 c1_i32_1195
  let v1808 : BitVec 32 := Scalar.muli v1807 c1_i32_1195
  let v1809 : BitVec 32 := Scalar.addi v1633 v1808
  let c1_i32_1197 : BitVec 32 := 1#32
  let arg13 : BitVec 32 := Scf.iv v1809 c1_i32_1197 k3_t222
  let v1832 : Index := Scalar.indexCast arg13
  let c16_1207 : Index := 16#32
  ![v1832.toNat, 16]
def k3_off889 (i : grid3.Coords) (v420 : BitVec 32) (v425 : BitVec 32) (k3_t222 : Fin (k3_t222_loop i v420 v425).trips) : Fin 2 → Nat :=
  let c256_i32_1063 : BitVec 32 := 256#32
  let c0_i32_1062 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let c256_i32_1066 : BitVec 32 := 256#32
  let c0_i32_1065 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c768_i32_1064 : BitVec 32 := 768#32
  let v1634 : BitVec 32 := Scalar.subi v428 c768_i32_1064
  let v1635 : BitVec 32 := Scalar.maxsi c0_i32_1065 v1634
  let v1636 : BitVec 32 := Scalar.minsi c256_i32_1066 v1635
  let v1805 : BitVec 32 := Scalar.subi v1636 v1633
  let c1_i32_1195 : BitVec 32 := 1#32
  let v1807 : BitVec 32 := Scalar.divsi v1805 c1_i32_1195
  let v1808 : BitVec 32 := Scalar.muli v1807 c1_i32_1195
  let v1809 : BitVec 32 := Scalar.addi v1633 v1808
  let c1_i32_1197 : BitVec 32 := 1#32
  let arg13 : BitVec 32 := Scf.iv v1809 c1_i32_1197 k3_t222
  let v1836 : Index := Scalar.indexCast arg13
  let c32_1208 : Index := 32#32
  ![v1836.toNat, 32]
def k3_off890 (i : grid3.Coords) (v420 : BitVec 32) (v425 : BitVec 32) (k3_t222 : Fin (k3_t222_loop i v420 v425).trips) : Fin 2 → Nat :=
  let c256_i32_1063 : BitVec 32 := 256#32
  let c0_i32_1062 : BitVec 32 := 0#32
  let c1024_i32_181 : BitVec 32 := 1024#32
  let c0_i32_180 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v421 : BitVec 32 := Scalar.subi v420 v3
  let v422 : BitVec 32 := Scalar.maxsi c0_i32_180 v421
  let v423 : BitVec 32 := Scalar.minsi c1024_i32_181 v422
  let c768_i32_1061 : BitVec 32 := 768#32
  let v1631 : BitVec 32 := Scalar.subi v423 c768_i32_1061
  let v1632 : BitVec 32 := Scalar.maxsi c0_i32_1062 v1631
  let v1633 : BitVec 32 := Scalar.minsi c256_i32_1063 v1632
  let c256_i32_1066 : BitVec 32 := 256#32
  let c0_i32_1065 : BitVec 32 := 0#32
  let c1024_i32_183 : BitVec 32 := 1024#32
  let c0_i32_182 : BitVec 32 := 0#32
  let v426 : BitVec 32 := Scalar.subi v425 v3
  let v427 : BitVec 32 := Scalar.maxsi c0_i32_182 v426
  let v428 : BitVec 32 := Scalar.minsi c1024_i32_183 v427
  let c768_i32_1064 : BitVec 32 := 768#32
  let v1634 : BitVec 32 := Scalar.subi v428 c768_i32_1064
  let v1635 : BitVec 32 := Scalar.maxsi c0_i32_1065 v1634
  let v1636 : BitVec 32 := Scalar.minsi c256_i32_1066 v1635
  let v1805 : BitVec 32 := Scalar.subi v1636 v1633
  let c1_i32_1195 : BitVec 32 := 1#32
  let v1807 : BitVec 32 := Scalar.divsi v1805 c1_i32_1195
  let v1808 : BitVec 32 := Scalar.muli v1807 c1_i32_1195
  let v1809 : BitVec 32 := Scalar.addi v1633 v1808
  let c1_i32_1197 : BitVec 32 := 1#32
  let arg13 : BitVec 32 := Scf.iv v1809 c1_i32_1197 k3_t222
  let v1840 : Index := Scalar.indexCast arg13
  let c48_1209 : Index := 48#32
  ![v1840.toNat, 48]

def k3_chk15_0 (i : grid3.Coords) (v420 : BitVec 32) (v425 : BitVec 32) : Prop :=
  (∀ (k3_h15 : k3_cond15 i v420 v425 = 1#1), (k3_t29_loop i v420 v425).OK) ∧
  (∀ k3_t29 : Fin (k3_t29_loop i v420 v425).trips, ∀ (k3_h15 : k3_cond15 i v420 v425 = 1#1), ∀ a, (k3_off114 i v420 v425 k3_t29) a + S1x16.size a ≤ S256x128.size a) ∧
  (∀ k3_t29 : Fin (k3_t29_loop i v420 v425).trips, ∀ (k3_h15 : k3_cond15 i v420 v425 = 1#1), ∀ a, (k3_off115 i v420 v425 k3_t29) a + S1x16.size a ≤ S256x128.size a) ∧
  (∀ k3_t29 : Fin (k3_t29_loop i v420 v425).trips, ∀ (k3_h15 : k3_cond15 i v420 v425 = 1#1), ∀ a, (k3_off116 i v420 v425 k3_t29) a + S1x16.size a ≤ S256x128.size a) ∧
  (∀ k3_t29 : Fin (k3_t29_loop i v420 v425).trips, ∀ (k3_h15 : k3_cond15 i v420 v425 = 1#1), ∀ a, (k3_off117 i v420 v425 k3_t29) a + S1x16.size a ≤ S256x128.size a) ∧
  (∀ (k3_h15 : k3_cond15 i v420 v425 = 1#1), (k3_t30_loop i v420 v425).OK) ∧
  (∀ k3_t30 : Fin (k3_t30_loop i v420 v425).trips, ∀ (k3_h15 : k3_cond15 i v420 v425 = 1#1), ∀ a, (k3_off118 i v420 v425 k3_t30) a + S1x16.size a ≤ S256x128.size a) ∧
  (∀ k3_t30 : Fin (k3_t30_loop i v420 v425).trips, ∀ (k3_h15 : k3_cond15 i v420 v425 = 1#1), ∀ a, (k3_off119 i v420 v425 k3_t30) a + S1x16.size a ≤ S256x128.size a) ∧
  (∀ k3_t30 : Fin (k3_t30_loop i v420 v425).trips, ∀ (k3_h15 : k3_cond15 i v420 v425 = 1#1), ∀ a, (k3_off120 i v420 v425 k3_t30) a + S1x16.size a ≤ S256x128.size a) ∧
  (∀ k3_t30 : Fin (k3_t30_loop i v420 v425).trips, ∀ (k3_h15 : k3_cond15 i v420 v425 = 1#1), ∀ a, (k3_off121 i v420 v425 k3_t30) a + S1x16.size a ≤ S256x128.size a) ∧
  (∀ (k3_h47 : k3_cond47 i v420 v425 = 1#1), (k3_t93_loop i v420 v425).OK) ∧
  (∀ k3_t93 : Fin (k3_t93_loop i v420 v425).trips, ∀ (k3_h47 : k3_cond47 i v420 v425 = 1#1), ∀ a, (k3_off371 i v420 v425 k3_t93) a + S1x16.size a ≤ S256x128.size a) ∧
  (∀ k3_t93 : Fin (k3_t93_loop i v420 v425).trips, ∀ (k3_h47 : k3_cond47 i v420 v425 = 1#1), ∀ a, (k3_off372 i v420 v425 k3_t93) a + S1x16.size a ≤ S256x128.size a) ∧
  (∀ k3_t93 : Fin (k3_t93_loop i v420 v425).trips, ∀ (k3_h47 : k3_cond47 i v420 v425 = 1#1), ∀ a, (k3_off373 i v420 v425 k3_t93) a + S1x16.size a ≤ S256x128.size a) ∧
  (∀ k3_t93 : Fin (k3_t93_loop i v420 v425).trips, ∀ (k3_h47 : k3_cond47 i v420 v425 = 1#1), ∀ a, (k3_off374 i v420 v425 k3_t93) a + S1x16.size a ≤ S256x128.size a) ∧
  (∀ (k3_h47 : k3_cond47 i v420 v425 = 1#1), (k3_t94_loop i v420 v425).OK) ∧
  (∀ k3_t94 : Fin (k3_t94_loop i v420 v425).trips, ∀ (k3_h47 : k3_cond47 i v420 v425 = 1#1), ∀ a, (k3_off375 i v420 v425 k3_t94) a + S1x16.size a ≤ S256x128.size a) ∧
  (∀ k3_t94 : Fin (k3_t94_loop i v420 v425).trips, ∀ (k3_h47 : k3_cond47 i v420 v425 = 1#1), ∀ a, (k3_off376 i v420 v425 k3_t94) a + S1x16.size a ≤ S256x128.size a) ∧
  (∀ k3_t94 : Fin (k3_t94_loop i v420 v425).trips, ∀ (k3_h47 : k3_cond47 i v420 v425 = 1#1), ∀ a, (k3_off377 i v420 v425 k3_t94) a + S1x16.size a ≤ S256x128.size a) ∧
  (∀ k3_t94 : Fin (k3_t94_loop i v420 v425).trips, ∀ (k3_h47 : k3_cond47 i v420 v425 = 1#1), ∀ a, (k3_off378 i v420 v425 k3_t94) a + S1x16.size a ≤ S256x128.size a) ∧
  (∀ (k3_h79 : k3_cond79 i v420 v425 = 1#1), (k3_t157_loop i v420 v425).OK) ∧
  (∀ k3_t157 : Fin (k3_t157_loop i v420 v425).trips, ∀ (k3_h79 : k3_cond79 i v420 v425 = 1#1), ∀ a, (k3_off627 i v420 v425 k3_t157) a + S1x16.size a ≤ S256x128.size a) ∧
  (∀ k3_t157 : Fin (k3_t157_loop i v420 v425).trips, ∀ (k3_h79 : k3_cond79 i v420 v425 = 1#1), ∀ a, (k3_off628 i v420 v425 k3_t157) a + S1x16.size a ≤ S256x128.size a) ∧
  (∀ k3_t157 : Fin (k3_t157_loop i v420 v425).trips, ∀ (k3_h79 : k3_cond79 i v420 v425 = 1#1), ∀ a, (k3_off629 i v420 v425 k3_t157) a + S1x16.size a ≤ S256x128.size a) ∧
  (∀ k3_t157 : Fin (k3_t157_loop i v420 v425).trips, ∀ (k3_h79 : k3_cond79 i v420 v425 = 1#1), ∀ a, (k3_off630 i v420 v425 k3_t157) a + S1x16.size a ≤ S256x128.size a) ∧
  (∀ (k3_h79 : k3_cond79 i v420 v425 = 1#1), (k3_t158_loop i v420 v425).OK) ∧
  (∀ k3_t158 : Fin (k3_t158_loop i v420 v425).trips, ∀ (k3_h79 : k3_cond79 i v420 v425 = 1#1), ∀ a, (k3_off631 i v420 v425 k3_t158) a + S1x16.size a ≤ S256x128.size a) ∧
  (∀ k3_t158 : Fin (k3_t158_loop i v420 v425).trips, ∀ (k3_h79 : k3_cond79 i v420 v425 = 1#1), ∀ a, (k3_off632 i v420 v425 k3_t158) a + S1x16.size a ≤ S256x128.size a) ∧
  (∀ k3_t158 : Fin (k3_t158_loop i v420 v425).trips, ∀ (k3_h79 : k3_cond79 i v420 v425 = 1#1), ∀ a, (k3_off633 i v420 v425 k3_t158) a + S1x16.size a ≤ S256x128.size a) ∧
  (∀ k3_t158 : Fin (k3_t158_loop i v420 v425).trips, ∀ (k3_h79 : k3_cond79 i v420 v425 = 1#1), ∀ a, (k3_off634 i v420 v425 k3_t158) a + S1x16.size a ≤ S256x128.size a) ∧
  (∀ (k3_h111 : k3_cond111 i v420 v425 = 1#1), (k3_t221_loop i v420 v425).OK) ∧
  (∀ k3_t221 : Fin (k3_t221_loop i v420 v425).trips, ∀ (k3_h111 : k3_cond111 i v420 v425 = 1#1), ∀ a, (k3_off883 i v420 v425 k3_t221) a + S1x16.size a ≤ S256x128.size a)
def k3_chk15_1 (i : grid3.Coords) (v420 : BitVec 32) (v425 : BitVec 32) : Prop :=
  (∀ k3_t221 : Fin (k3_t221_loop i v420 v425).trips, ∀ (k3_h111 : k3_cond111 i v420 v425 = 1#1), ∀ a, (k3_off884 i v420 v425 k3_t221) a + S1x16.size a ≤ S256x128.size a) ∧
  (∀ k3_t221 : Fin (k3_t221_loop i v420 v425).trips, ∀ (k3_h111 : k3_cond111 i v420 v425 = 1#1), ∀ a, (k3_off885 i v420 v425 k3_t221) a + S1x16.size a ≤ S256x128.size a) ∧
  (∀ k3_t221 : Fin (k3_t221_loop i v420 v425).trips, ∀ (k3_h111 : k3_cond111 i v420 v425 = 1#1), ∀ a, (k3_off886 i v420 v425 k3_t221) a + S1x16.size a ≤ S256x128.size a) ∧
  (∀ (k3_h111 : k3_cond111 i v420 v425 = 1#1), (k3_t222_loop i v420 v425).OK) ∧
  (∀ k3_t222 : Fin (k3_t222_loop i v420 v425).trips, ∀ (k3_h111 : k3_cond111 i v420 v425 = 1#1), ∀ a, (k3_off887 i v420 v425 k3_t222) a + S1x16.size a ≤ S256x128.size a) ∧
  (∀ k3_t222 : Fin (k3_t222_loop i v420 v425).trips, ∀ (k3_h111 : k3_cond111 i v420 v425 = 1#1), ∀ a, (k3_off888 i v420 v425 k3_t222) a + S1x16.size a ≤ S256x128.size a) ∧
  (∀ k3_t222 : Fin (k3_t222_loop i v420 v425).trips, ∀ (k3_h111 : k3_cond111 i v420 v425 = 1#1), ∀ a, (k3_off889 i v420 v425 k3_t222) a + S1x16.size a ≤ S256x128.size a) ∧
  (∀ k3_t222 : Fin (k3_t222_loop i v420 v425).trips, ∀ (k3_h111 : k3_cond111 i v420 v425 = 1#1), ∀ a, (k3_off890 i v420 v425 k3_t222) a + S1x16.size a ≤ S256x128.size a)
def k3_chk15 (i : grid3.Coords) (v420 : BitVec 32) (v425 : BitVec 32) : Prop :=
  k3_chk15_0 i v420 v425 ∧
  k3_chk15_1 i v420 v425
theorem k3_t29_ok : ∀ (i : grid3.Coords) (v420 : BitVec 32) (v425 : BitVec 32) (k3_hw15 : k3_chk15 i v420 v425), ∀ (k3_h15 : k3_cond15 i v420 v425 = 1#1), (k3_t29_loop i v420 v425).OK := fun i v420 v425 k3_hw15 k3_h15 => k3_hw15.1.1 k3_h15
theorem k3_off114_inb : ∀ (i : grid3.Coords) (v420 : BitVec 32) (v425 : BitVec 32) (k3_hw15 : k3_chk15 i v420 v425) (k3_t29 : Fin (k3_t29_loop i v420 v425).trips), ∀ (k3_h15 : k3_cond15 i v420 v425 = 1#1), ∀ a, (k3_off114 i v420 v425 k3_t29) a + S1x16.size a ≤ S256x128.size a := fun i v420 v425 k3_hw15 k3_t29 k3_h15 => k3_hw15.1.2.1 k3_t29 k3_h15
theorem k3_off115_inb : ∀ (i : grid3.Coords) (v420 : BitVec 32) (v425 : BitVec 32) (k3_hw15 : k3_chk15 i v420 v425) (k3_t29 : Fin (k3_t29_loop i v420 v425).trips), ∀ (k3_h15 : k3_cond15 i v420 v425 = 1#1), ∀ a, (k3_off115 i v420 v425 k3_t29) a + S1x16.size a ≤ S256x128.size a := fun i v420 v425 k3_hw15 k3_t29 k3_h15 => k3_hw15.1.2.2.1 k3_t29 k3_h15
theorem k3_off116_inb : ∀ (i : grid3.Coords) (v420 : BitVec 32) (v425 : BitVec 32) (k3_hw15 : k3_chk15 i v420 v425) (k3_t29 : Fin (k3_t29_loop i v420 v425).trips), ∀ (k3_h15 : k3_cond15 i v420 v425 = 1#1), ∀ a, (k3_off116 i v420 v425 k3_t29) a + S1x16.size a ≤ S256x128.size a := fun i v420 v425 k3_hw15 k3_t29 k3_h15 => k3_hw15.1.2.2.2.1 k3_t29 k3_h15
theorem k3_off117_inb : ∀ (i : grid3.Coords) (v420 : BitVec 32) (v425 : BitVec 32) (k3_hw15 : k3_chk15 i v420 v425) (k3_t29 : Fin (k3_t29_loop i v420 v425).trips), ∀ (k3_h15 : k3_cond15 i v420 v425 = 1#1), ∀ a, (k3_off117 i v420 v425 k3_t29) a + S1x16.size a ≤ S256x128.size a := fun i v420 v425 k3_hw15 k3_t29 k3_h15 => k3_hw15.1.2.2.2.2.1 k3_t29 k3_h15
theorem k3_t30_ok : ∀ (i : grid3.Coords) (v420 : BitVec 32) (v425 : BitVec 32) (k3_hw15 : k3_chk15 i v420 v425), ∀ (k3_h15 : k3_cond15 i v420 v425 = 1#1), (k3_t30_loop i v420 v425).OK := fun i v420 v425 k3_hw15 k3_h15 => k3_hw15.1.2.2.2.2.2.1 k3_h15
theorem k3_off118_inb : ∀ (i : grid3.Coords) (v420 : BitVec 32) (v425 : BitVec 32) (k3_hw15 : k3_chk15 i v420 v425) (k3_t30 : Fin (k3_t30_loop i v420 v425).trips), ∀ (k3_h15 : k3_cond15 i v420 v425 = 1#1), ∀ a, (k3_off118 i v420 v425 k3_t30) a + S1x16.size a ≤ S256x128.size a := fun i v420 v425 k3_hw15 k3_t30 k3_h15 => k3_hw15.1.2.2.2.2.2.2.1 k3_t30 k3_h15
theorem k3_off119_inb : ∀ (i : grid3.Coords) (v420 : BitVec 32) (v425 : BitVec 32) (k3_hw15 : k3_chk15 i v420 v425) (k3_t30 : Fin (k3_t30_loop i v420 v425).trips), ∀ (k3_h15 : k3_cond15 i v420 v425 = 1#1), ∀ a, (k3_off119 i v420 v425 k3_t30) a + S1x16.size a ≤ S256x128.size a := fun i v420 v425 k3_hw15 k3_t30 k3_h15 => k3_hw15.1.2.2.2.2.2.2.2.1 k3_t30 k3_h15
theorem k3_off120_inb : ∀ (i : grid3.Coords) (v420 : BitVec 32) (v425 : BitVec 32) (k3_hw15 : k3_chk15 i v420 v425) (k3_t30 : Fin (k3_t30_loop i v420 v425).trips), ∀ (k3_h15 : k3_cond15 i v420 v425 = 1#1), ∀ a, (k3_off120 i v420 v425 k3_t30) a + S1x16.size a ≤ S256x128.size a := fun i v420 v425 k3_hw15 k3_t30 k3_h15 => k3_hw15.1.2.2.2.2.2.2.2.2.1 k3_t30 k3_h15
theorem k3_off121_inb : ∀ (i : grid3.Coords) (v420 : BitVec 32) (v425 : BitVec 32) (k3_hw15 : k3_chk15 i v420 v425) (k3_t30 : Fin (k3_t30_loop i v420 v425).trips), ∀ (k3_h15 : k3_cond15 i v420 v425 = 1#1), ∀ a, (k3_off121 i v420 v425 k3_t30) a + S1x16.size a ≤ S256x128.size a := fun i v420 v425 k3_hw15 k3_t30 k3_h15 => k3_hw15.1.2.2.2.2.2.2.2.2.2.1 k3_t30 k3_h15
theorem k3_t93_ok : ∀ (i : grid3.Coords) (v420 : BitVec 32) (v425 : BitVec 32) (k3_hw15 : k3_chk15 i v420 v425), ∀ (k3_h47 : k3_cond47 i v420 v425 = 1#1), (k3_t93_loop i v420 v425).OK := fun i v420 v425 k3_hw15 k3_h47 => k3_hw15.1.2.2.2.2.2.2.2.2.2.2.1 k3_h47
theorem k3_off371_inb : ∀ (i : grid3.Coords) (v420 : BitVec 32) (v425 : BitVec 32) (k3_hw15 : k3_chk15 i v420 v425) (k3_t93 : Fin (k3_t93_loop i v420 v425).trips), ∀ (k3_h47 : k3_cond47 i v420 v425 = 1#1), ∀ a, (k3_off371 i v420 v425 k3_t93) a + S1x16.size a ≤ S256x128.size a := fun i v420 v425 k3_hw15 k3_t93 k3_h47 => k3_hw15.1.2.2.2.2.2.2.2.2.2.2.2.1 k3_t93 k3_h47
theorem k3_off372_inb : ∀ (i : grid3.Coords) (v420 : BitVec 32) (v425 : BitVec 32) (k3_hw15 : k3_chk15 i v420 v425) (k3_t93 : Fin (k3_t93_loop i v420 v425).trips), ∀ (k3_h47 : k3_cond47 i v420 v425 = 1#1), ∀ a, (k3_off372 i v420 v425 k3_t93) a + S1x16.size a ≤ S256x128.size a := fun i v420 v425 k3_hw15 k3_t93 k3_h47 => k3_hw15.1.2.2.2.2.2.2.2.2.2.2.2.2.1 k3_t93 k3_h47
theorem k3_off373_inb : ∀ (i : grid3.Coords) (v420 : BitVec 32) (v425 : BitVec 32) (k3_hw15 : k3_chk15 i v420 v425) (k3_t93 : Fin (k3_t93_loop i v420 v425).trips), ∀ (k3_h47 : k3_cond47 i v420 v425 = 1#1), ∀ a, (k3_off373 i v420 v425 k3_t93) a + S1x16.size a ≤ S256x128.size a := fun i v420 v425 k3_hw15 k3_t93 k3_h47 => k3_hw15.1.2.2.2.2.2.2.2.2.2.2.2.2.2.1 k3_t93 k3_h47
theorem k3_off374_inb : ∀ (i : grid3.Coords) (v420 : BitVec 32) (v425 : BitVec 32) (k3_hw15 : k3_chk15 i v420 v425) (k3_t93 : Fin (k3_t93_loop i v420 v425).trips), ∀ (k3_h47 : k3_cond47 i v420 v425 = 1#1), ∀ a, (k3_off374 i v420 v425 k3_t93) a + S1x16.size a ≤ S256x128.size a := fun i v420 v425 k3_hw15 k3_t93 k3_h47 => k3_hw15.1.2.2.2.2.2.2.2.2.2.2.2.2.2.2.1 k3_t93 k3_h47
theorem k3_t94_ok : ∀ (i : grid3.Coords) (v420 : BitVec 32) (v425 : BitVec 32) (k3_hw15 : k3_chk15 i v420 v425), ∀ (k3_h47 : k3_cond47 i v420 v425 = 1#1), (k3_t94_loop i v420 v425).OK := fun i v420 v425 k3_hw15 k3_h47 => k3_hw15.1.2.2.2.2.2.2.2.2.2.2.2.2.2.2.2.1 k3_h47
theorem k3_off375_inb : ∀ (i : grid3.Coords) (v420 : BitVec 32) (v425 : BitVec 32) (k3_hw15 : k3_chk15 i v420 v425) (k3_t94 : Fin (k3_t94_loop i v420 v425).trips), ∀ (k3_h47 : k3_cond47 i v420 v425 = 1#1), ∀ a, (k3_off375 i v420 v425 k3_t94) a + S1x16.size a ≤ S256x128.size a := fun i v420 v425 k3_hw15 k3_t94 k3_h47 => k3_hw15.1.2.2.2.2.2.2.2.2.2.2.2.2.2.2.2.2.1 k3_t94 k3_h47
theorem k3_off376_inb : ∀ (i : grid3.Coords) (v420 : BitVec 32) (v425 : BitVec 32) (k3_hw15 : k3_chk15 i v420 v425) (k3_t94 : Fin (k3_t94_loop i v420 v425).trips), ∀ (k3_h47 : k3_cond47 i v420 v425 = 1#1), ∀ a, (k3_off376 i v420 v425 k3_t94) a + S1x16.size a ≤ S256x128.size a := fun i v420 v425 k3_hw15 k3_t94 k3_h47 => k3_hw15.1.2.2.2.2.2.2.2.2.2.2.2.2.2.2.2.2.2.1 k3_t94 k3_h47
theorem k3_off377_inb : ∀ (i : grid3.Coords) (v420 : BitVec 32) (v425 : BitVec 32) (k3_hw15 : k3_chk15 i v420 v425) (k3_t94 : Fin (k3_t94_loop i v420 v425).trips), ∀ (k3_h47 : k3_cond47 i v420 v425 = 1#1), ∀ a, (k3_off377 i v420 v425 k3_t94) a + S1x16.size a ≤ S256x128.size a := fun i v420 v425 k3_hw15 k3_t94 k3_h47 => k3_hw15.1.2.2.2.2.2.2.2.2.2.2.2.2.2.2.2.2.2.2.1 k3_t94 k3_h47
theorem k3_off378_inb : ∀ (i : grid3.Coords) (v420 : BitVec 32) (v425 : BitVec 32) (k3_hw15 : k3_chk15 i v420 v425) (k3_t94 : Fin (k3_t94_loop i v420 v425).trips), ∀ (k3_h47 : k3_cond47 i v420 v425 = 1#1), ∀ a, (k3_off378 i v420 v425 k3_t94) a + S1x16.size a ≤ S256x128.size a := fun i v420 v425 k3_hw15 k3_t94 k3_h47 => k3_hw15.1.2.2.2.2.2.2.2.2.2.2.2.2.2.2.2.2.2.2.2.1 k3_t94 k3_h47
theorem k3_t157_ok : ∀ (i : grid3.Coords) (v420 : BitVec 32) (v425 : BitVec 32) (k3_hw15 : k3_chk15 i v420 v425), ∀ (k3_h79 : k3_cond79 i v420 v425 = 1#1), (k3_t157_loop i v420 v425).OK := fun i v420 v425 k3_hw15 k3_h79 => k3_hw15.1.2.2.2.2.2.2.2.2.2.2.2.2.2.2.2.2.2.2.2.2.1 k3_h79
theorem k3_off627_inb : ∀ (i : grid3.Coords) (v420 : BitVec 32) (v425 : BitVec 32) (k3_hw15 : k3_chk15 i v420 v425) (k3_t157 : Fin (k3_t157_loop i v420 v425).trips), ∀ (k3_h79 : k3_cond79 i v420 v425 = 1#1), ∀ a, (k3_off627 i v420 v425 k3_t157) a + S1x16.size a ≤ S256x128.size a := fun i v420 v425 k3_hw15 k3_t157 k3_h79 => k3_hw15.1.2.2.2.2.2.2.2.2.2.2.2.2.2.2.2.2.2.2.2.2.2.1 k3_t157 k3_h79
theorem k3_off628_inb : ∀ (i : grid3.Coords) (v420 : BitVec 32) (v425 : BitVec 32) (k3_hw15 : k3_chk15 i v420 v425) (k3_t157 : Fin (k3_t157_loop i v420 v425).trips), ∀ (k3_h79 : k3_cond79 i v420 v425 = 1#1), ∀ a, (k3_off628 i v420 v425 k3_t157) a + S1x16.size a ≤ S256x128.size a := fun i v420 v425 k3_hw15 k3_t157 k3_h79 => k3_hw15.1.2.2.2.2.2.2.2.2.2.2.2.2.2.2.2.2.2.2.2.2.2.2.1 k3_t157 k3_h79
theorem k3_off629_inb : ∀ (i : grid3.Coords) (v420 : BitVec 32) (v425 : BitVec 32) (k3_hw15 : k3_chk15 i v420 v425) (k3_t157 : Fin (k3_t157_loop i v420 v425).trips), ∀ (k3_h79 : k3_cond79 i v420 v425 = 1#1), ∀ a, (k3_off629 i v420 v425 k3_t157) a + S1x16.size a ≤ S256x128.size a := fun i v420 v425 k3_hw15 k3_t157 k3_h79 => k3_hw15.1.2.2.2.2.2.2.2.2.2.2.2.2.2.2.2.2.2.2.2.2.2.2.2.1 k3_t157 k3_h79
theorem k3_off630_inb : ∀ (i : grid3.Coords) (v420 : BitVec 32) (v425 : BitVec 32) (k3_hw15 : k3_chk15 i v420 v425) (k3_t157 : Fin (k3_t157_loop i v420 v425).trips), ∀ (k3_h79 : k3_cond79 i v420 v425 = 1#1), ∀ a, (k3_off630 i v420 v425 k3_t157) a + S1x16.size a ≤ S256x128.size a := fun i v420 v425 k3_hw15 k3_t157 k3_h79 => k3_hw15.1.2.2.2.2.2.2.2.2.2.2.2.2.2.2.2.2.2.2.2.2.2.2.2.2.1 k3_t157 k3_h79
theorem k3_t158_ok : ∀ (i : grid3.Coords) (v420 : BitVec 32) (v425 : BitVec 32) (k3_hw15 : k3_chk15 i v420 v425), ∀ (k3_h79 : k3_cond79 i v420 v425 = 1#1), (k3_t158_loop i v420 v425).OK := fun i v420 v425 k3_hw15 k3_h79 => k3_hw15.1.2.2.2.2.2.2.2.2.2.2.2.2.2.2.2.2.2.2.2.2.2.2.2.2.2.1 k3_h79
theorem k3_off631_inb : ∀ (i : grid3.Coords) (v420 : BitVec 32) (v425 : BitVec 32) (k3_hw15 : k3_chk15 i v420 v425) (k3_t158 : Fin (k3_t158_loop i v420 v425).trips), ∀ (k3_h79 : k3_cond79 i v420 v425 = 1#1), ∀ a, (k3_off631 i v420 v425 k3_t158) a + S1x16.size a ≤ S256x128.size a := fun i v420 v425 k3_hw15 k3_t158 k3_h79 => k3_hw15.1.2.2.2.2.2.2.2.2.2.2.2.2.2.2.2.2.2.2.2.2.2.2.2.2.2.2.1 k3_t158 k3_h79
theorem k3_off632_inb : ∀ (i : grid3.Coords) (v420 : BitVec 32) (v425 : BitVec 32) (k3_hw15 : k3_chk15 i v420 v425) (k3_t158 : Fin (k3_t158_loop i v420 v425).trips), ∀ (k3_h79 : k3_cond79 i v420 v425 = 1#1), ∀ a, (k3_off632 i v420 v425 k3_t158) a + S1x16.size a ≤ S256x128.size a := fun i v420 v425 k3_hw15 k3_t158 k3_h79 => k3_hw15.1.2.2.2.2.2.2.2.2.2.2.2.2.2.2.2.2.2.2.2.2.2.2.2.2.2.2.2.1 k3_t158 k3_h79
theorem k3_off633_inb : ∀ (i : grid3.Coords) (v420 : BitVec 32) (v425 : BitVec 32) (k3_hw15 : k3_chk15 i v420 v425) (k3_t158 : Fin (k3_t158_loop i v420 v425).trips), ∀ (k3_h79 : k3_cond79 i v420 v425 = 1#1), ∀ a, (k3_off633 i v420 v425 k3_t158) a + S1x16.size a ≤ S256x128.size a := fun i v420 v425 k3_hw15 k3_t158 k3_h79 => k3_hw15.1.2.2.2.2.2.2.2.2.2.2.2.2.2.2.2.2.2.2.2.2.2.2.2.2.2.2.2.2.1 k3_t158 k3_h79
theorem k3_off634_inb : ∀ (i : grid3.Coords) (v420 : BitVec 32) (v425 : BitVec 32) (k3_hw15 : k3_chk15 i v420 v425) (k3_t158 : Fin (k3_t158_loop i v420 v425).trips), ∀ (k3_h79 : k3_cond79 i v420 v425 = 1#1), ∀ a, (k3_off634 i v420 v425 k3_t158) a + S1x16.size a ≤ S256x128.size a := fun i v420 v425 k3_hw15 k3_t158 k3_h79 => k3_hw15.1.2.2.2.2.2.2.2.2.2.2.2.2.2.2.2.2.2.2.2.2.2.2.2.2.2.2.2.2.2.1 k3_t158 k3_h79
theorem k3_t221_ok : ∀ (i : grid3.Coords) (v420 : BitVec 32) (v425 : BitVec 32) (k3_hw15 : k3_chk15 i v420 v425), ∀ (k3_h111 : k3_cond111 i v420 v425 = 1#1), (k3_t221_loop i v420 v425).OK := fun i v420 v425 k3_hw15 k3_h111 => k3_hw15.1.2.2.2.2.2.2.2.2.2.2.2.2.2.2.2.2.2.2.2.2.2.2.2.2.2.2.2.2.2.2.1 k3_h111
theorem k3_off883_inb : ∀ (i : grid3.Coords) (v420 : BitVec 32) (v425 : BitVec 32) (k3_hw15 : k3_chk15 i v420 v425) (k3_t221 : Fin (k3_t221_loop i v420 v425).trips), ∀ (k3_h111 : k3_cond111 i v420 v425 = 1#1), ∀ a, (k3_off883 i v420 v425 k3_t221) a + S1x16.size a ≤ S256x128.size a := fun i v420 v425 k3_hw15 k3_t221 k3_h111 => k3_hw15.1.2.2.2.2.2.2.2.2.2.2.2.2.2.2.2.2.2.2.2.2.2.2.2.2.2.2.2.2.2.2.2 k3_t221 k3_h111
theorem k3_off884_inb : ∀ (i : grid3.Coords) (v420 : BitVec 32) (v425 : BitVec 32) (k3_hw15 : k3_chk15 i v420 v425) (k3_t221 : Fin (k3_t221_loop i v420 v425).trips), ∀ (k3_h111 : k3_cond111 i v420 v425 = 1#1), ∀ a, (k3_off884 i v420 v425 k3_t221) a + S1x16.size a ≤ S256x128.size a := fun i v420 v425 k3_hw15 k3_t221 k3_h111 => k3_hw15.2.1 k3_t221 k3_h111
theorem k3_off885_inb : ∀ (i : grid3.Coords) (v420 : BitVec 32) (v425 : BitVec 32) (k3_hw15 : k3_chk15 i v420 v425) (k3_t221 : Fin (k3_t221_loop i v420 v425).trips), ∀ (k3_h111 : k3_cond111 i v420 v425 = 1#1), ∀ a, (k3_off885 i v420 v425 k3_t221) a + S1x16.size a ≤ S256x128.size a := fun i v420 v425 k3_hw15 k3_t221 k3_h111 => k3_hw15.2.2.1 k3_t221 k3_h111
theorem k3_off886_inb : ∀ (i : grid3.Coords) (v420 : BitVec 32) (v425 : BitVec 32) (k3_hw15 : k3_chk15 i v420 v425) (k3_t221 : Fin (k3_t221_loop i v420 v425).trips), ∀ (k3_h111 : k3_cond111 i v420 v425 = 1#1), ∀ a, (k3_off886 i v420 v425 k3_t221) a + S1x16.size a ≤ S256x128.size a := fun i v420 v425 k3_hw15 k3_t221 k3_h111 => k3_hw15.2.2.2.1 k3_t221 k3_h111
theorem k3_t222_ok : ∀ (i : grid3.Coords) (v420 : BitVec 32) (v425 : BitVec 32) (k3_hw15 : k3_chk15 i v420 v425), ∀ (k3_h111 : k3_cond111 i v420 v425 = 1#1), (k3_t222_loop i v420 v425).OK := fun i v420 v425 k3_hw15 k3_h111 => k3_hw15.2.2.2.2.1 k3_h111
theorem k3_off887_inb : ∀ (i : grid3.Coords) (v420 : BitVec 32) (v425 : BitVec 32) (k3_hw15 : k3_chk15 i v420 v425) (k3_t222 : Fin (k3_t222_loop i v420 v425).trips), ∀ (k3_h111 : k3_cond111 i v420 v425 = 1#1), ∀ a, (k3_off887 i v420 v425 k3_t222) a + S1x16.size a ≤ S256x128.size a := fun i v420 v425 k3_hw15 k3_t222 k3_h111 => k3_hw15.2.2.2.2.2.1 k3_t222 k3_h111
theorem k3_off888_inb : ∀ (i : grid3.Coords) (v420 : BitVec 32) (v425 : BitVec 32) (k3_hw15 : k3_chk15 i v420 v425) (k3_t222 : Fin (k3_t222_loop i v420 v425).trips), ∀ (k3_h111 : k3_cond111 i v420 v425 = 1#1), ∀ a, (k3_off888 i v420 v425 k3_t222) a + S1x16.size a ≤ S256x128.size a := fun i v420 v425 k3_hw15 k3_t222 k3_h111 => k3_hw15.2.2.2.2.2.2.1 k3_t222 k3_h111
theorem k3_off889_inb : ∀ (i : grid3.Coords) (v420 : BitVec 32) (v425 : BitVec 32) (k3_hw15 : k3_chk15 i v420 v425) (k3_t222 : Fin (k3_t222_loop i v420 v425).trips), ∀ (k3_h111 : k3_cond111 i v420 v425 = 1#1), ∀ a, (k3_off889 i v420 v425 k3_t222) a + S1x16.size a ≤ S256x128.size a := fun i v420 v425 k3_hw15 k3_t222 k3_h111 => k3_hw15.2.2.2.2.2.2.2.1 k3_t222 k3_h111
theorem k3_off890_inb : ∀ (i : grid3.Coords) (v420 : BitVec 32) (v425 : BitVec 32) (k3_hw15 : k3_chk15 i v420 v425) (k3_t222 : Fin (k3_t222_loop i v420 v425).trips), ∀ (k3_h111 : k3_cond111 i v420 v425 = 1#1), ∀ a, (k3_off890 i v420 v425 k3_t222) a + S1x16.size a ≤ S256x128.size a := fun i v420 v425 k3_hw15 k3_t222 k3_h111 => k3_hw15.2.2.2.2.2.2.2.2 k3_t222 k3_h111

@[reducible] def k3_t223_loop (i : grid3.Coords) (v430 : BitVec 32) (v436 : BitVec 32) : Scf.Loop 32 :=
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let c256_i32_1073 : BitVec 32 := 256#32
  let c0_i32_1072 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c768_i32_1071 : BitVec 32 := 768#32
  let v1643 : BitVec 32 := Scalar.subi v440 c768_i32_1071
  let v1644 : BitVec 32 := Scalar.maxsi c0_i32_1072 v1643
  let v1645 : BitVec 32 := Scalar.minsi c256_i32_1073 v1644
  let v1805 : BitVec 32 := Scalar.subi v1645 v1642
  let c1_i32_1195 : BitVec 32 := 1#32
  let v1807 : BitVec 32 := Scalar.divsi v1805 c1_i32_1195
  let v1808 : BitVec 32 := Scalar.muli v1807 c1_i32_1195
  let v1809 : BitVec 32 := Scalar.addi v1642 v1808
  let c1_i32_1196 : BitVec 32 := 1#32
  ⟨v1642, v1809, c1_i32_1196⟩
def k3_cond112 (i : grid3.Coords) (v430 : BitVec 32) (v436 : BitVec 32) : BitVec 1 :=
  let c256_i32_1073 : BitVec 32 := 256#32
  let c0_i32_1072 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v438 : BitVec 32 := Scalar.subi v437 v3
  let v439 : BitVec 32 := Scalar.maxsi c0_i32_188 v438
  let v440 : BitVec 32 := Scalar.minsi c1024_i32_189 v439
  let c768_i32_1071 : BitVec 32 := 768#32
  let v1643 : BitVec 32 := Scalar.subi v440 c768_i32_1071
  let v1644 : BitVec 32 := Scalar.maxsi c0_i32_1072 v1643
  let v1645 : BitVec 32 := Scalar.minsi c256_i32_1073 v1644
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let v1646 : BitVec 1 := Scalar.cmpi .sgt v1645 v1642
  let v1647 : BitVec 32 := Scalar.extui v1646
  let c0_i32_1074 : BitVec 32 := 0#32
  let v1648 : BitVec 1 := Scalar.cmpi .ne v1647 c0_i32_1074
  v1648

def k3_off891 (i : grid3.Coords) (v430 : BitVec 32) (v436 : BitVec 32) (k3_t223 : Fin (k3_t223_loop i v430 v436).trips) : Fin 2 → Nat :=
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let c1_i32_1196 : BitVec 32 := 1#32
  let arg13 : BitVec 32 := Scf.iv v1642 c1_i32_1196 k3_t223
  let v1828 : Index := Scalar.indexCast arg13
  let c64 : Index := 64#32
  ![v1828.toNat, 64]
def k3_off892 (i : grid3.Coords) (v430 : BitVec 32) (v436 : BitVec 32) (k3_t223 : Fin (k3_t223_loop i v430 v436).trips) : Fin 2 → Nat :=
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let c1_i32_1196 : BitVec 32 := 1#32
  let arg13 : BitVec 32 := Scf.iv v1642 c1_i32_1196 k3_t223
  let v1832 : Index := Scalar.indexCast arg13
  let c80 : Index := 80#32
  ![v1832.toNat, 80]
def k3_off893 (i : grid3.Coords) (v430 : BitVec 32) (v436 : BitVec 32) (k3_t223 : Fin (k3_t223_loop i v430 v436).trips) : Fin 2 → Nat :=
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let c1_i32_1196 : BitVec 32 := 1#32
  let arg13 : BitVec 32 := Scf.iv v1642 c1_i32_1196 k3_t223
  let v1836 : Index := Scalar.indexCast arg13
  let c96 : Index := 96#32
  ![v1836.toNat, 96]
def k3_off894 (i : grid3.Coords) (v430 : BitVec 32) (v436 : BitVec 32) (k3_t223 : Fin (k3_t223_loop i v430 v436).trips) : Fin 2 → Nat :=
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let c1_i32_1196 : BitVec 32 := 1#32
  let arg13 : BitVec 32 := Scf.iv v1642 c1_i32_1196 k3_t223
  let v1840 : Index := Scalar.indexCast arg13
  let c112 : Index := 112#32
  ![v1840.toNat, 112]
@[reducible] def k3_t224_loop (i : grid3.Coords) (v430 : BitVec 32) (v436 : BitVec 32) : Scf.Loop 32 :=
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let c256_i32_1073 : BitVec 32 := 256#32
  let c0_i32_1072 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c768_i32_1071 : BitVec 32 := 768#32
  let v1643 : BitVec 32 := Scalar.subi v440 c768_i32_1071
  let v1644 : BitVec 32 := Scalar.maxsi c0_i32_1072 v1643
  let v1645 : BitVec 32 := Scalar.minsi c256_i32_1073 v1644
  let v1805 : BitVec 32 := Scalar.subi v1645 v1642
  let c1_i32_1195 : BitVec 32 := 1#32
  let v1807 : BitVec 32 := Scalar.divsi v1805 c1_i32_1195
  let v1808 : BitVec 32 := Scalar.muli v1807 c1_i32_1195
  let v1809 : BitVec 32 := Scalar.addi v1642 v1808
  let v1806 : BitVec 32 := Scalar.addi v1642 v1805
  let c1_i32_1197 : BitVec 32 := 1#32
  ⟨v1809, v1806, c1_i32_1197⟩
def k3_off895 (i : grid3.Coords) (v430 : BitVec 32) (v436 : BitVec 32) (k3_t224 : Fin (k3_t224_loop i v430 v436).trips) : Fin 2 → Nat :=
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let c256_i32_1073 : BitVec 32 := 256#32
  let c0_i32_1072 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c768_i32_1071 : BitVec 32 := 768#32
  let v1643 : BitVec 32 := Scalar.subi v440 c768_i32_1071
  let v1644 : BitVec 32 := Scalar.maxsi c0_i32_1072 v1643
  let v1645 : BitVec 32 := Scalar.minsi c256_i32_1073 v1644
  let v1805 : BitVec 32 := Scalar.subi v1645 v1642
  let c1_i32_1195 : BitVec 32 := 1#32
  let v1807 : BitVec 32 := Scalar.divsi v1805 c1_i32_1195
  let v1808 : BitVec 32 := Scalar.muli v1807 c1_i32_1195
  let v1809 : BitVec 32 := Scalar.addi v1642 v1808
  let c1_i32_1197 : BitVec 32 := 1#32
  let arg13 : BitVec 32 := Scf.iv v1809 c1_i32_1197 k3_t224
  let v1828 : Index := Scalar.indexCast arg13
  let c64 : Index := 64#32
  ![v1828.toNat, 64]
def k3_off896 (i : grid3.Coords) (v430 : BitVec 32) (v436 : BitVec 32) (k3_t224 : Fin (k3_t224_loop i v430 v436).trips) : Fin 2 → Nat :=
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let c256_i32_1073 : BitVec 32 := 256#32
  let c0_i32_1072 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c768_i32_1071 : BitVec 32 := 768#32
  let v1643 : BitVec 32 := Scalar.subi v440 c768_i32_1071
  let v1644 : BitVec 32 := Scalar.maxsi c0_i32_1072 v1643
  let v1645 : BitVec 32 := Scalar.minsi c256_i32_1073 v1644
  let v1805 : BitVec 32 := Scalar.subi v1645 v1642
  let c1_i32_1195 : BitVec 32 := 1#32
  let v1807 : BitVec 32 := Scalar.divsi v1805 c1_i32_1195
  let v1808 : BitVec 32 := Scalar.muli v1807 c1_i32_1195
  let v1809 : BitVec 32 := Scalar.addi v1642 v1808
  let c1_i32_1197 : BitVec 32 := 1#32
  let arg13 : BitVec 32 := Scf.iv v1809 c1_i32_1197 k3_t224
  let v1832 : Index := Scalar.indexCast arg13
  let c80 : Index := 80#32
  ![v1832.toNat, 80]
def k3_off897 (i : grid3.Coords) (v430 : BitVec 32) (v436 : BitVec 32) (k3_t224 : Fin (k3_t224_loop i v430 v436).trips) : Fin 2 → Nat :=
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let c256_i32_1073 : BitVec 32 := 256#32
  let c0_i32_1072 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c768_i32_1071 : BitVec 32 := 768#32
  let v1643 : BitVec 32 := Scalar.subi v440 c768_i32_1071
  let v1644 : BitVec 32 := Scalar.maxsi c0_i32_1072 v1643
  let v1645 : BitVec 32 := Scalar.minsi c256_i32_1073 v1644
  let v1805 : BitVec 32 := Scalar.subi v1645 v1642
  let c1_i32_1195 : BitVec 32 := 1#32
  let v1807 : BitVec 32 := Scalar.divsi v1805 c1_i32_1195
  let v1808 : BitVec 32 := Scalar.muli v1807 c1_i32_1195
  let v1809 : BitVec 32 := Scalar.addi v1642 v1808
  let c1_i32_1197 : BitVec 32 := 1#32
  let arg13 : BitVec 32 := Scf.iv v1809 c1_i32_1197 k3_t224
  let v1836 : Index := Scalar.indexCast arg13
  let c96 : Index := 96#32
  ![v1836.toNat, 96]
def k3_off898 (i : grid3.Coords) (v430 : BitVec 32) (v436 : BitVec 32) (k3_t224 : Fin (k3_t224_loop i v430 v436).trips) : Fin 2 → Nat :=
  let c256_i32_1070 : BitVec 32 := 256#32
  let c0_i32_1069 : BitVec 32 := 0#32
  let c1024_i32_186 : BitVec 32 := 1024#32
  let c0_i32_185 : BitVec 32 := 0#32
  let c65536_i32_184 : BitVec 32 := 65536#32
  let v431 : BitVec 32 := Scalar.subi v430 c65536_i32_184
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v432 : BitVec 32 := Scalar.subi v431 v3
  let v433 : BitVec 32 := Scalar.maxsi c0_i32_185 v432
  let v434 : BitVec 32 := Scalar.minsi c1024_i32_186 v433
  let c768_i32_1068 : BitVec 32 := 768#32
  let v1640 : BitVec 32 := Scalar.subi v434 c768_i32_1068
  let v1641 : BitVec 32 := Scalar.maxsi c0_i32_1069 v1640
  let v1642 : BitVec 32 := Scalar.minsi c256_i32_1070 v1641
  let c256_i32_1073 : BitVec 32 := 256#32
  let c0_i32_1072 : BitVec 32 := 0#32
  let c1024_i32_189 : BitVec 32 := 1024#32
  let c0_i32_188 : BitVec 32 := 0#32
  let c65536_i32_187 : BitVec 32 := 65536#32
  let v437 : BitVec 32 := Scalar.subi v436 c65536_i32_187
  let v438 : BitVec 32 := Scalar.subi v437 v3
  let v439 : BitVec 32 := Scalar.maxsi c0_i32_188 v438
  let v440 : BitVec 32 := Scalar.minsi c1024_i32_189 v439
  let c768_i32_1071 : BitVec 32 := 768#32
  let v1643 : BitVec 32 := Scalar.subi v440 c768_i32_1071
  let v1644 : BitVec 32 := Scalar.maxsi c0_i32_1072 v1643
  let v1645 : BitVec 32 := Scalar.minsi c256_i32_1073 v1644
  let v1805 : BitVec 32 := Scalar.subi v1645 v1642
  let c1_i32_1195 : BitVec 32 := 1#32
  let v1807 : BitVec 32 := Scalar.divsi v1805 c1_i32_1195
  let v1808 : BitVec 32 := Scalar.muli v1807 c1_i32_1195
  let v1809 : BitVec 32 := Scalar.addi v1642 v1808
  let c1_i32_1197 : BitVec 32 := 1#32
  let arg13 : BitVec 32 := Scf.iv v1809 c1_i32_1197 k3_t224
  let v1840 : Index := Scalar.indexCast arg13
  let c112 : Index := 112#32
  ![v1840.toNat, 112]

def k3_chk16_0 (i : grid3.Coords) (v430 : BitVec 32) (v436 : BitVec 32) : Prop :=
  (∀ (k3_h16 : k3_cond16 i v430 v436 = 1#1), (k3_t31_loop i v430 v436).OK) ∧
  (∀ k3_t31 : Fin (k3_t31_loop i v430 v436).trips, ∀ (k3_h16 : k3_cond16 i v430 v436 = 1#1), ∀ a, (k3_off122 i v430 v436 k3_t31) a + S1x16.size a ≤ S256x128.size a) ∧
  (∀ k3_t31 : Fin (k3_t31_loop i v430 v436).trips, ∀ (k3_h16 : k3_cond16 i v430 v436 = 1#1), ∀ a, (k3_off123 i v430 v436 k3_t31) a + S1x16.size a ≤ S256x128.size a) ∧
  (∀ k3_t31 : Fin (k3_t31_loop i v430 v436).trips, ∀ (k3_h16 : k3_cond16 i v430 v436 = 1#1), ∀ a, (k3_off124 i v430 v436 k3_t31) a + S1x16.size a ≤ S256x128.size a) ∧
  (∀ k3_t31 : Fin (k3_t31_loop i v430 v436).trips, ∀ (k3_h16 : k3_cond16 i v430 v436 = 1#1), ∀ a, (k3_off125 i v430 v436 k3_t31) a + S1x16.size a ≤ S256x128.size a) ∧
  (∀ (k3_h16 : k3_cond16 i v430 v436 = 1#1), (k3_t32_loop i v430 v436).OK) ∧
  (∀ k3_t32 : Fin (k3_t32_loop i v430 v436).trips, ∀ (k3_h16 : k3_cond16 i v430 v436 = 1#1), ∀ a, (k3_off126 i v430 v436 k3_t32) a + S1x16.size a ≤ S256x128.size a) ∧
  (∀ k3_t32 : Fin (k3_t32_loop i v430 v436).trips, ∀ (k3_h16 : k3_cond16 i v430 v436 = 1#1), ∀ a, (k3_off127 i v430 v436 k3_t32) a + S1x16.size a ≤ S256x128.size a) ∧
  (∀ k3_t32 : Fin (k3_t32_loop i v430 v436).trips, ∀ (k3_h16 : k3_cond16 i v430 v436 = 1#1), ∀ a, (k3_off128 i v430 v436 k3_t32) a + S1x16.size a ≤ S256x128.size a) ∧
  (∀ k3_t32 : Fin (k3_t32_loop i v430 v436).trips, ∀ (k3_h16 : k3_cond16 i v430 v436 = 1#1), ∀ a, (k3_off129 i v430 v436 k3_t32) a + S1x16.size a ≤ S256x128.size a) ∧
  (∀ (k3_h48 : k3_cond48 i v430 v436 = 1#1), (k3_t95_loop i v430 v436).OK) ∧
  (∀ k3_t95 : Fin (k3_t95_loop i v430 v436).trips, ∀ (k3_h48 : k3_cond48 i v430 v436 = 1#1), ∀ a, (k3_off379 i v430 v436 k3_t95) a + S1x16.size a ≤ S256x128.size a) ∧
  (∀ k3_t95 : Fin (k3_t95_loop i v430 v436).trips, ∀ (k3_h48 : k3_cond48 i v430 v436 = 1#1), ∀ a, (k3_off380 i v430 v436 k3_t95) a + S1x16.size a ≤ S256x128.size a) ∧
  (∀ k3_t95 : Fin (k3_t95_loop i v430 v436).trips, ∀ (k3_h48 : k3_cond48 i v430 v436 = 1#1), ∀ a, (k3_off381 i v430 v436 k3_t95) a + S1x16.size a ≤ S256x128.size a) ∧
  (∀ k3_t95 : Fin (k3_t95_loop i v430 v436).trips, ∀ (k3_h48 : k3_cond48 i v430 v436 = 1#1), ∀ a, (k3_off382 i v430 v436 k3_t95) a + S1x16.size a ≤ S256x128.size a) ∧
  (∀ (k3_h48 : k3_cond48 i v430 v436 = 1#1), (k3_t96_loop i v430 v436).OK) ∧
  (∀ k3_t96 : Fin (k3_t96_loop i v430 v436).trips, ∀ (k3_h48 : k3_cond48 i v430 v436 = 1#1), ∀ a, (k3_off383 i v430 v436 k3_t96) a + S1x16.size a ≤ S256x128.size a) ∧
  (∀ k3_t96 : Fin (k3_t96_loop i v430 v436).trips, ∀ (k3_h48 : k3_cond48 i v430 v436 = 1#1), ∀ a, (k3_off384 i v430 v436 k3_t96) a + S1x16.size a ≤ S256x128.size a) ∧
  (∀ k3_t96 : Fin (k3_t96_loop i v430 v436).trips, ∀ (k3_h48 : k3_cond48 i v430 v436 = 1#1), ∀ a, (k3_off385 i v430 v436 k3_t96) a + S1x16.size a ≤ S256x128.size a) ∧
  (∀ k3_t96 : Fin (k3_t96_loop i v430 v436).trips, ∀ (k3_h48 : k3_cond48 i v430 v436 = 1#1), ∀ a, (k3_off386 i v430 v436 k3_t96) a + S1x16.size a ≤ S256x128.size a) ∧
  (∀ (k3_h80 : k3_cond80 i v430 v436 = 1#1), (k3_t159_loop i v430 v436).OK) ∧
  (∀ k3_t159 : Fin (k3_t159_loop i v430 v436).trips, ∀ (k3_h80 : k3_cond80 i v430 v436 = 1#1), ∀ a, (k3_off635 i v430 v436 k3_t159) a + S1x16.size a ≤ S256x128.size a) ∧
  (∀ k3_t159 : Fin (k3_t159_loop i v430 v436).trips, ∀ (k3_h80 : k3_cond80 i v430 v436 = 1#1), ∀ a, (k3_off636 i v430 v436 k3_t159) a + S1x16.size a ≤ S256x128.size a) ∧
  (∀ k3_t159 : Fin (k3_t159_loop i v430 v436).trips, ∀ (k3_h80 : k3_cond80 i v430 v436 = 1#1), ∀ a, (k3_off637 i v430 v436 k3_t159) a + S1x16.size a ≤ S256x128.size a) ∧
  (∀ k3_t159 : Fin (k3_t159_loop i v430 v436).trips, ∀ (k3_h80 : k3_cond80 i v430 v436 = 1#1), ∀ a, (k3_off638 i v430 v436 k3_t159) a + S1x16.size a ≤ S256x128.size a) ∧
  (∀ (k3_h80 : k3_cond80 i v430 v436 = 1#1), (k3_t160_loop i v430 v436).OK) ∧
  (∀ k3_t160 : Fin (k3_t160_loop i v430 v436).trips, ∀ (k3_h80 : k3_cond80 i v430 v436 = 1#1), ∀ a, (k3_off639 i v430 v436 k3_t160) a + S1x16.size a ≤ S256x128.size a) ∧
  (∀ k3_t160 : Fin (k3_t160_loop i v430 v436).trips, ∀ (k3_h80 : k3_cond80 i v430 v436 = 1#1), ∀ a, (k3_off640 i v430 v436 k3_t160) a + S1x16.size a ≤ S256x128.size a) ∧
  (∀ k3_t160 : Fin (k3_t160_loop i v430 v436).trips, ∀ (k3_h80 : k3_cond80 i v430 v436 = 1#1), ∀ a, (k3_off641 i v430 v436 k3_t160) a + S1x16.size a ≤ S256x128.size a) ∧
  (∀ k3_t160 : Fin (k3_t160_loop i v430 v436).trips, ∀ (k3_h80 : k3_cond80 i v430 v436 = 1#1), ∀ a, (k3_off642 i v430 v436 k3_t160) a + S1x16.size a ≤ S256x128.size a) ∧
  (∀ (k3_h112 : k3_cond112 i v430 v436 = 1#1), (k3_t223_loop i v430 v436).OK) ∧
  (∀ k3_t223 : Fin (k3_t223_loop i v430 v436).trips, ∀ (k3_h112 : k3_cond112 i v430 v436 = 1#1), ∀ a, (k3_off891 i v430 v436 k3_t223) a + S1x16.size a ≤ S256x128.size a)
def k3_chk16_1 (i : grid3.Coords) (v430 : BitVec 32) (v436 : BitVec 32) : Prop :=
  (∀ k3_t223 : Fin (k3_t223_loop i v430 v436).trips, ∀ (k3_h112 : k3_cond112 i v430 v436 = 1#1), ∀ a, (k3_off892 i v430 v436 k3_t223) a + S1x16.size a ≤ S256x128.size a) ∧
  (∀ k3_t223 : Fin (k3_t223_loop i v430 v436).trips, ∀ (k3_h112 : k3_cond112 i v430 v436 = 1#1), ∀ a, (k3_off893 i v430 v436 k3_t223) a + S1x16.size a ≤ S256x128.size a) ∧
  (∀ k3_t223 : Fin (k3_t223_loop i v430 v436).trips, ∀ (k3_h112 : k3_cond112 i v430 v436 = 1#1), ∀ a, (k3_off894 i v430 v436 k3_t223) a + S1x16.size a ≤ S256x128.size a) ∧
  (∀ (k3_h112 : k3_cond112 i v430 v436 = 1#1), (k3_t224_loop i v430 v436).OK) ∧
  (∀ k3_t224 : Fin (k3_t224_loop i v430 v436).trips, ∀ (k3_h112 : k3_cond112 i v430 v436 = 1#1), ∀ a, (k3_off895 i v430 v436 k3_t224) a + S1x16.size a ≤ S256x128.size a) ∧
  (∀ k3_t224 : Fin (k3_t224_loop i v430 v436).trips, ∀ (k3_h112 : k3_cond112 i v430 v436 = 1#1), ∀ a, (k3_off896 i v430 v436 k3_t224) a + S1x16.size a ≤ S256x128.size a) ∧
  (∀ k3_t224 : Fin (k3_t224_loop i v430 v436).trips, ∀ (k3_h112 : k3_cond112 i v430 v436 = 1#1), ∀ a, (k3_off897 i v430 v436 k3_t224) a + S1x16.size a ≤ S256x128.size a) ∧
  (∀ k3_t224 : Fin (k3_t224_loop i v430 v436).trips, ∀ (k3_h112 : k3_cond112 i v430 v436 = 1#1), ∀ a, (k3_off898 i v430 v436 k3_t224) a + S1x16.size a ≤ S256x128.size a)
def k3_chk16 (i : grid3.Coords) (v430 : BitVec 32) (v436 : BitVec 32) : Prop :=
  k3_chk16_0 i v430 v436 ∧
  k3_chk16_1 i v430 v436
theorem k3_t31_ok : ∀ (i : grid3.Coords) (v430 : BitVec 32) (v436 : BitVec 32) (k3_hw16 : k3_chk16 i v430 v436), ∀ (k3_h16 : k3_cond16 i v430 v436 = 1#1), (k3_t31_loop i v430 v436).OK := fun i v430 v436 k3_hw16 k3_h16 => k3_hw16.1.1 k3_h16
theorem k3_off122_inb : ∀ (i : grid3.Coords) (v430 : BitVec 32) (v436 : BitVec 32) (k3_hw16 : k3_chk16 i v430 v436) (k3_t31 : Fin (k3_t31_loop i v430 v436).trips), ∀ (k3_h16 : k3_cond16 i v430 v436 = 1#1), ∀ a, (k3_off122 i v430 v436 k3_t31) a + S1x16.size a ≤ S256x128.size a := fun i v430 v436 k3_hw16 k3_t31 k3_h16 => k3_hw16.1.2.1 k3_t31 k3_h16
theorem k3_off123_inb : ∀ (i : grid3.Coords) (v430 : BitVec 32) (v436 : BitVec 32) (k3_hw16 : k3_chk16 i v430 v436) (k3_t31 : Fin (k3_t31_loop i v430 v436).trips), ∀ (k3_h16 : k3_cond16 i v430 v436 = 1#1), ∀ a, (k3_off123 i v430 v436 k3_t31) a + S1x16.size a ≤ S256x128.size a := fun i v430 v436 k3_hw16 k3_t31 k3_h16 => k3_hw16.1.2.2.1 k3_t31 k3_h16
theorem k3_off124_inb : ∀ (i : grid3.Coords) (v430 : BitVec 32) (v436 : BitVec 32) (k3_hw16 : k3_chk16 i v430 v436) (k3_t31 : Fin (k3_t31_loop i v430 v436).trips), ∀ (k3_h16 : k3_cond16 i v430 v436 = 1#1), ∀ a, (k3_off124 i v430 v436 k3_t31) a + S1x16.size a ≤ S256x128.size a := fun i v430 v436 k3_hw16 k3_t31 k3_h16 => k3_hw16.1.2.2.2.1 k3_t31 k3_h16
theorem k3_off125_inb : ∀ (i : grid3.Coords) (v430 : BitVec 32) (v436 : BitVec 32) (k3_hw16 : k3_chk16 i v430 v436) (k3_t31 : Fin (k3_t31_loop i v430 v436).trips), ∀ (k3_h16 : k3_cond16 i v430 v436 = 1#1), ∀ a, (k3_off125 i v430 v436 k3_t31) a + S1x16.size a ≤ S256x128.size a := fun i v430 v436 k3_hw16 k3_t31 k3_h16 => k3_hw16.1.2.2.2.2.1 k3_t31 k3_h16
theorem k3_t32_ok : ∀ (i : grid3.Coords) (v430 : BitVec 32) (v436 : BitVec 32) (k3_hw16 : k3_chk16 i v430 v436), ∀ (k3_h16 : k3_cond16 i v430 v436 = 1#1), (k3_t32_loop i v430 v436).OK := fun i v430 v436 k3_hw16 k3_h16 => k3_hw16.1.2.2.2.2.2.1 k3_h16
theorem k3_off126_inb : ∀ (i : grid3.Coords) (v430 : BitVec 32) (v436 : BitVec 32) (k3_hw16 : k3_chk16 i v430 v436) (k3_t32 : Fin (k3_t32_loop i v430 v436).trips), ∀ (k3_h16 : k3_cond16 i v430 v436 = 1#1), ∀ a, (k3_off126 i v430 v436 k3_t32) a + S1x16.size a ≤ S256x128.size a := fun i v430 v436 k3_hw16 k3_t32 k3_h16 => k3_hw16.1.2.2.2.2.2.2.1 k3_t32 k3_h16
theorem k3_off127_inb : ∀ (i : grid3.Coords) (v430 : BitVec 32) (v436 : BitVec 32) (k3_hw16 : k3_chk16 i v430 v436) (k3_t32 : Fin (k3_t32_loop i v430 v436).trips), ∀ (k3_h16 : k3_cond16 i v430 v436 = 1#1), ∀ a, (k3_off127 i v430 v436 k3_t32) a + S1x16.size a ≤ S256x128.size a := fun i v430 v436 k3_hw16 k3_t32 k3_h16 => k3_hw16.1.2.2.2.2.2.2.2.1 k3_t32 k3_h16
theorem k3_off128_inb : ∀ (i : grid3.Coords) (v430 : BitVec 32) (v436 : BitVec 32) (k3_hw16 : k3_chk16 i v430 v436) (k3_t32 : Fin (k3_t32_loop i v430 v436).trips), ∀ (k3_h16 : k3_cond16 i v430 v436 = 1#1), ∀ a, (k3_off128 i v430 v436 k3_t32) a + S1x16.size a ≤ S256x128.size a := fun i v430 v436 k3_hw16 k3_t32 k3_h16 => k3_hw16.1.2.2.2.2.2.2.2.2.1 k3_t32 k3_h16
theorem k3_off129_inb : ∀ (i : grid3.Coords) (v430 : BitVec 32) (v436 : BitVec 32) (k3_hw16 : k3_chk16 i v430 v436) (k3_t32 : Fin (k3_t32_loop i v430 v436).trips), ∀ (k3_h16 : k3_cond16 i v430 v436 = 1#1), ∀ a, (k3_off129 i v430 v436 k3_t32) a + S1x16.size a ≤ S256x128.size a := fun i v430 v436 k3_hw16 k3_t32 k3_h16 => k3_hw16.1.2.2.2.2.2.2.2.2.2.1 k3_t32 k3_h16
theorem k3_t95_ok : ∀ (i : grid3.Coords) (v430 : BitVec 32) (v436 : BitVec 32) (k3_hw16 : k3_chk16 i v430 v436), ∀ (k3_h48 : k3_cond48 i v430 v436 = 1#1), (k3_t95_loop i v430 v436).OK := fun i v430 v436 k3_hw16 k3_h48 => k3_hw16.1.2.2.2.2.2.2.2.2.2.2.1 k3_h48
theorem k3_off379_inb : ∀ (i : grid3.Coords) (v430 : BitVec 32) (v436 : BitVec 32) (k3_hw16 : k3_chk16 i v430 v436) (k3_t95 : Fin (k3_t95_loop i v430 v436).trips), ∀ (k3_h48 : k3_cond48 i v430 v436 = 1#1), ∀ a, (k3_off379 i v430 v436 k3_t95) a + S1x16.size a ≤ S256x128.size a := fun i v430 v436 k3_hw16 k3_t95 k3_h48 => k3_hw16.1.2.2.2.2.2.2.2.2.2.2.2.1 k3_t95 k3_h48
theorem k3_off380_inb : ∀ (i : grid3.Coords) (v430 : BitVec 32) (v436 : BitVec 32) (k3_hw16 : k3_chk16 i v430 v436) (k3_t95 : Fin (k3_t95_loop i v430 v436).trips), ∀ (k3_h48 : k3_cond48 i v430 v436 = 1#1), ∀ a, (k3_off380 i v430 v436 k3_t95) a + S1x16.size a ≤ S256x128.size a := fun i v430 v436 k3_hw16 k3_t95 k3_h48 => k3_hw16.1.2.2.2.2.2.2.2.2.2.2.2.2.1 k3_t95 k3_h48
theorem k3_off381_inb : ∀ (i : grid3.Coords) (v430 : BitVec 32) (v436 : BitVec 32) (k3_hw16 : k3_chk16 i v430 v436) (k3_t95 : Fin (k3_t95_loop i v430 v436).trips), ∀ (k3_h48 : k3_cond48 i v430 v436 = 1#1), ∀ a, (k3_off381 i v430 v436 k3_t95) a + S1x16.size a ≤ S256x128.size a := fun i v430 v436 k3_hw16 k3_t95 k3_h48 => k3_hw16.1.2.2.2.2.2.2.2.2.2.2.2.2.2.1 k3_t95 k3_h48
theorem k3_off382_inb : ∀ (i : grid3.Coords) (v430 : BitVec 32) (v436 : BitVec 32) (k3_hw16 : k3_chk16 i v430 v436) (k3_t95 : Fin (k3_t95_loop i v430 v436).trips), ∀ (k3_h48 : k3_cond48 i v430 v436 = 1#1), ∀ a, (k3_off382 i v430 v436 k3_t95) a + S1x16.size a ≤ S256x128.size a := fun i v430 v436 k3_hw16 k3_t95 k3_h48 => k3_hw16.1.2.2.2.2.2.2.2.2.2.2.2.2.2.2.1 k3_t95 k3_h48
theorem k3_t96_ok : ∀ (i : grid3.Coords) (v430 : BitVec 32) (v436 : BitVec 32) (k3_hw16 : k3_chk16 i v430 v436), ∀ (k3_h48 : k3_cond48 i v430 v436 = 1#1), (k3_t96_loop i v430 v436).OK := fun i v430 v436 k3_hw16 k3_h48 => k3_hw16.1.2.2.2.2.2.2.2.2.2.2.2.2.2.2.2.1 k3_h48
theorem k3_off383_inb : ∀ (i : grid3.Coords) (v430 : BitVec 32) (v436 : BitVec 32) (k3_hw16 : k3_chk16 i v430 v436) (k3_t96 : Fin (k3_t96_loop i v430 v436).trips), ∀ (k3_h48 : k3_cond48 i v430 v436 = 1#1), ∀ a, (k3_off383 i v430 v436 k3_t96) a + S1x16.size a ≤ S256x128.size a := fun i v430 v436 k3_hw16 k3_t96 k3_h48 => k3_hw16.1.2.2.2.2.2.2.2.2.2.2.2.2.2.2.2.2.1 k3_t96 k3_h48
theorem k3_off384_inb : ∀ (i : grid3.Coords) (v430 : BitVec 32) (v436 : BitVec 32) (k3_hw16 : k3_chk16 i v430 v436) (k3_t96 : Fin (k3_t96_loop i v430 v436).trips), ∀ (k3_h48 : k3_cond48 i v430 v436 = 1#1), ∀ a, (k3_off384 i v430 v436 k3_t96) a + S1x16.size a ≤ S256x128.size a := fun i v430 v436 k3_hw16 k3_t96 k3_h48 => k3_hw16.1.2.2.2.2.2.2.2.2.2.2.2.2.2.2.2.2.2.1 k3_t96 k3_h48
theorem k3_off385_inb : ∀ (i : grid3.Coords) (v430 : BitVec 32) (v436 : BitVec 32) (k3_hw16 : k3_chk16 i v430 v436) (k3_t96 : Fin (k3_t96_loop i v430 v436).trips), ∀ (k3_h48 : k3_cond48 i v430 v436 = 1#1), ∀ a, (k3_off385 i v430 v436 k3_t96) a + S1x16.size a ≤ S256x128.size a := fun i v430 v436 k3_hw16 k3_t96 k3_h48 => k3_hw16.1.2.2.2.2.2.2.2.2.2.2.2.2.2.2.2.2.2.2.1 k3_t96 k3_h48
theorem k3_off386_inb : ∀ (i : grid3.Coords) (v430 : BitVec 32) (v436 : BitVec 32) (k3_hw16 : k3_chk16 i v430 v436) (k3_t96 : Fin (k3_t96_loop i v430 v436).trips), ∀ (k3_h48 : k3_cond48 i v430 v436 = 1#1), ∀ a, (k3_off386 i v430 v436 k3_t96) a + S1x16.size a ≤ S256x128.size a := fun i v430 v436 k3_hw16 k3_t96 k3_h48 => k3_hw16.1.2.2.2.2.2.2.2.2.2.2.2.2.2.2.2.2.2.2.2.1 k3_t96 k3_h48
theorem k3_t159_ok : ∀ (i : grid3.Coords) (v430 : BitVec 32) (v436 : BitVec 32) (k3_hw16 : k3_chk16 i v430 v436), ∀ (k3_h80 : k3_cond80 i v430 v436 = 1#1), (k3_t159_loop i v430 v436).OK := fun i v430 v436 k3_hw16 k3_h80 => k3_hw16.1.2.2.2.2.2.2.2.2.2.2.2.2.2.2.2.2.2.2.2.2.1 k3_h80
theorem k3_off635_inb : ∀ (i : grid3.Coords) (v430 : BitVec 32) (v436 : BitVec 32) (k3_hw16 : k3_chk16 i v430 v436) (k3_t159 : Fin (k3_t159_loop i v430 v436).trips), ∀ (k3_h80 : k3_cond80 i v430 v436 = 1#1), ∀ a, (k3_off635 i v430 v436 k3_t159) a + S1x16.size a ≤ S256x128.size a := fun i v430 v436 k3_hw16 k3_t159 k3_h80 => k3_hw16.1.2.2.2.2.2.2.2.2.2.2.2.2.2.2.2.2.2.2.2.2.2.1 k3_t159 k3_h80
theorem k3_off636_inb : ∀ (i : grid3.Coords) (v430 : BitVec 32) (v436 : BitVec 32) (k3_hw16 : k3_chk16 i v430 v436) (k3_t159 : Fin (k3_t159_loop i v430 v436).trips), ∀ (k3_h80 : k3_cond80 i v430 v436 = 1#1), ∀ a, (k3_off636 i v430 v436 k3_t159) a + S1x16.size a ≤ S256x128.size a := fun i v430 v436 k3_hw16 k3_t159 k3_h80 => k3_hw16.1.2.2.2.2.2.2.2.2.2.2.2.2.2.2.2.2.2.2.2.2.2.2.1 k3_t159 k3_h80
theorem k3_off637_inb : ∀ (i : grid3.Coords) (v430 : BitVec 32) (v436 : BitVec 32) (k3_hw16 : k3_chk16 i v430 v436) (k3_t159 : Fin (k3_t159_loop i v430 v436).trips), ∀ (k3_h80 : k3_cond80 i v430 v436 = 1#1), ∀ a, (k3_off637 i v430 v436 k3_t159) a + S1x16.size a ≤ S256x128.size a := fun i v430 v436 k3_hw16 k3_t159 k3_h80 => k3_hw16.1.2.2.2.2.2.2.2.2.2.2.2.2.2.2.2.2.2.2.2.2.2.2.2.1 k3_t159 k3_h80
theorem k3_off638_inb : ∀ (i : grid3.Coords) (v430 : BitVec 32) (v436 : BitVec 32) (k3_hw16 : k3_chk16 i v430 v436) (k3_t159 : Fin (k3_t159_loop i v430 v436).trips), ∀ (k3_h80 : k3_cond80 i v430 v436 = 1#1), ∀ a, (k3_off638 i v430 v436 k3_t159) a + S1x16.size a ≤ S256x128.size a := fun i v430 v436 k3_hw16 k3_t159 k3_h80 => k3_hw16.1.2.2.2.2.2.2.2.2.2.2.2.2.2.2.2.2.2.2.2.2.2.2.2.2.1 k3_t159 k3_h80
theorem k3_t160_ok : ∀ (i : grid3.Coords) (v430 : BitVec 32) (v436 : BitVec 32) (k3_hw16 : k3_chk16 i v430 v436), ∀ (k3_h80 : k3_cond80 i v430 v436 = 1#1), (k3_t160_loop i v430 v436).OK := fun i v430 v436 k3_hw16 k3_h80 => k3_hw16.1.2.2.2.2.2.2.2.2.2.2.2.2.2.2.2.2.2.2.2.2.2.2.2.2.2.1 k3_h80
theorem k3_off639_inb : ∀ (i : grid3.Coords) (v430 : BitVec 32) (v436 : BitVec 32) (k3_hw16 : k3_chk16 i v430 v436) (k3_t160 : Fin (k3_t160_loop i v430 v436).trips), ∀ (k3_h80 : k3_cond80 i v430 v436 = 1#1), ∀ a, (k3_off639 i v430 v436 k3_t160) a + S1x16.size a ≤ S256x128.size a := fun i v430 v436 k3_hw16 k3_t160 k3_h80 => k3_hw16.1.2.2.2.2.2.2.2.2.2.2.2.2.2.2.2.2.2.2.2.2.2.2.2.2.2.2.1 k3_t160 k3_h80
theorem k3_off640_inb : ∀ (i : grid3.Coords) (v430 : BitVec 32) (v436 : BitVec 32) (k3_hw16 : k3_chk16 i v430 v436) (k3_t160 : Fin (k3_t160_loop i v430 v436).trips), ∀ (k3_h80 : k3_cond80 i v430 v436 = 1#1), ∀ a, (k3_off640 i v430 v436 k3_t160) a + S1x16.size a ≤ S256x128.size a := fun i v430 v436 k3_hw16 k3_t160 k3_h80 => k3_hw16.1.2.2.2.2.2.2.2.2.2.2.2.2.2.2.2.2.2.2.2.2.2.2.2.2.2.2.2.1 k3_t160 k3_h80
theorem k3_off641_inb : ∀ (i : grid3.Coords) (v430 : BitVec 32) (v436 : BitVec 32) (k3_hw16 : k3_chk16 i v430 v436) (k3_t160 : Fin (k3_t160_loop i v430 v436).trips), ∀ (k3_h80 : k3_cond80 i v430 v436 = 1#1), ∀ a, (k3_off641 i v430 v436 k3_t160) a + S1x16.size a ≤ S256x128.size a := fun i v430 v436 k3_hw16 k3_t160 k3_h80 => k3_hw16.1.2.2.2.2.2.2.2.2.2.2.2.2.2.2.2.2.2.2.2.2.2.2.2.2.2.2.2.2.1 k3_t160 k3_h80
theorem k3_off642_inb : ∀ (i : grid3.Coords) (v430 : BitVec 32) (v436 : BitVec 32) (k3_hw16 : k3_chk16 i v430 v436) (k3_t160 : Fin (k3_t160_loop i v430 v436).trips), ∀ (k3_h80 : k3_cond80 i v430 v436 = 1#1), ∀ a, (k3_off642 i v430 v436 k3_t160) a + S1x16.size a ≤ S256x128.size a := fun i v430 v436 k3_hw16 k3_t160 k3_h80 => k3_hw16.1.2.2.2.2.2.2.2.2.2.2.2.2.2.2.2.2.2.2.2.2.2.2.2.2.2.2.2.2.2.1 k3_t160 k3_h80
theorem k3_t223_ok : ∀ (i : grid3.Coords) (v430 : BitVec 32) (v436 : BitVec 32) (k3_hw16 : k3_chk16 i v430 v436), ∀ (k3_h112 : k3_cond112 i v430 v436 = 1#1), (k3_t223_loop i v430 v436).OK := fun i v430 v436 k3_hw16 k3_h112 => k3_hw16.1.2.2.2.2.2.2.2.2.2.2.2.2.2.2.2.2.2.2.2.2.2.2.2.2.2.2.2.2.2.2.1 k3_h112
theorem k3_off891_inb : ∀ (i : grid3.Coords) (v430 : BitVec 32) (v436 : BitVec 32) (k3_hw16 : k3_chk16 i v430 v436) (k3_t223 : Fin (k3_t223_loop i v430 v436).trips), ∀ (k3_h112 : k3_cond112 i v430 v436 = 1#1), ∀ a, (k3_off891 i v430 v436 k3_t223) a + S1x16.size a ≤ S256x128.size a := fun i v430 v436 k3_hw16 k3_t223 k3_h112 => k3_hw16.1.2.2.2.2.2.2.2.2.2.2.2.2.2.2.2.2.2.2.2.2.2.2.2.2.2.2.2.2.2.2.2 k3_t223 k3_h112
theorem k3_off892_inb : ∀ (i : grid3.Coords) (v430 : BitVec 32) (v436 : BitVec 32) (k3_hw16 : k3_chk16 i v430 v436) (k3_t223 : Fin (k3_t223_loop i v430 v436).trips), ∀ (k3_h112 : k3_cond112 i v430 v436 = 1#1), ∀ a, (k3_off892 i v430 v436 k3_t223) a + S1x16.size a ≤ S256x128.size a := fun i v430 v436 k3_hw16 k3_t223 k3_h112 => k3_hw16.2.1 k3_t223 k3_h112
theorem k3_off893_inb : ∀ (i : grid3.Coords) (v430 : BitVec 32) (v436 : BitVec 32) (k3_hw16 : k3_chk16 i v430 v436) (k3_t223 : Fin (k3_t223_loop i v430 v436).trips), ∀ (k3_h112 : k3_cond112 i v430 v436 = 1#1), ∀ a, (k3_off893 i v430 v436 k3_t223) a + S1x16.size a ≤ S256x128.size a := fun i v430 v436 k3_hw16 k3_t223 k3_h112 => k3_hw16.2.2.1 k3_t223 k3_h112
theorem k3_off894_inb : ∀ (i : grid3.Coords) (v430 : BitVec 32) (v436 : BitVec 32) (k3_hw16 : k3_chk16 i v430 v436) (k3_t223 : Fin (k3_t223_loop i v430 v436).trips), ∀ (k3_h112 : k3_cond112 i v430 v436 = 1#1), ∀ a, (k3_off894 i v430 v436 k3_t223) a + S1x16.size a ≤ S256x128.size a := fun i v430 v436 k3_hw16 k3_t223 k3_h112 => k3_hw16.2.2.2.1 k3_t223 k3_h112
theorem k3_t224_ok : ∀ (i : grid3.Coords) (v430 : BitVec 32) (v436 : BitVec 32) (k3_hw16 : k3_chk16 i v430 v436), ∀ (k3_h112 : k3_cond112 i v430 v436 = 1#1), (k3_t224_loop i v430 v436).OK := fun i v430 v436 k3_hw16 k3_h112 => k3_hw16.2.2.2.2.1 k3_h112
theorem k3_off895_inb : ∀ (i : grid3.Coords) (v430 : BitVec 32) (v436 : BitVec 32) (k3_hw16 : k3_chk16 i v430 v436) (k3_t224 : Fin (k3_t224_loop i v430 v436).trips), ∀ (k3_h112 : k3_cond112 i v430 v436 = 1#1), ∀ a, (k3_off895 i v430 v436 k3_t224) a + S1x16.size a ≤ S256x128.size a := fun i v430 v436 k3_hw16 k3_t224 k3_h112 => k3_hw16.2.2.2.2.2.1 k3_t224 k3_h112
theorem k3_off896_inb : ∀ (i : grid3.Coords) (v430 : BitVec 32) (v436 : BitVec 32) (k3_hw16 : k3_chk16 i v430 v436) (k3_t224 : Fin (k3_t224_loop i v430 v436).trips), ∀ (k3_h112 : k3_cond112 i v430 v436 = 1#1), ∀ a, (k3_off896 i v430 v436 k3_t224) a + S1x16.size a ≤ S256x128.size a := fun i v430 v436 k3_hw16 k3_t224 k3_h112 => k3_hw16.2.2.2.2.2.2.1 k3_t224 k3_h112
theorem k3_off897_inb : ∀ (i : grid3.Coords) (v430 : BitVec 32) (v436 : BitVec 32) (k3_hw16 : k3_chk16 i v430 v436) (k3_t224 : Fin (k3_t224_loop i v430 v436).trips), ∀ (k3_h112 : k3_cond112 i v430 v436 = 1#1), ∀ a, (k3_off897 i v430 v436 k3_t224) a + S1x16.size a ≤ S256x128.size a := fun i v430 v436 k3_hw16 k3_t224 k3_h112 => k3_hw16.2.2.2.2.2.2.2.1 k3_t224 k3_h112
theorem k3_off898_inb : ∀ (i : grid3.Coords) (v430 : BitVec 32) (v436 : BitVec 32) (k3_hw16 : k3_chk16 i v430 v436) (k3_t224 : Fin (k3_t224_loop i v430 v436).trips), ∀ (k3_h112 : k3_cond112 i v430 v436 = 1#1), ∀ a, (k3_off898 i v430 v436 k3_t224) a + S1x16.size a ≤ S256x128.size a := fun i v430 v436 k3_hw16 k3_t224 k3_h112 => k3_hw16.2.2.2.2.2.2.2.2 k3_t224 k3_h112

@[reducible] def k3_t225_loop (i : grid3.Coords) (v442 : BitVec 32) (v447 : BitVec 32) : Scf.Loop 32 :=
  let c256_i32_1077 : BitVec 32 := 256#32
  let c0_i32_1076 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let c256_i32_1080 : BitVec 32 := 256#32
  let c0_i32_1079 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c768_i32_1078 : BitVec 32 := 768#32
  let v1652 : BitVec 32 := Scalar.subi v450 c768_i32_1078
  let v1653 : BitVec 32 := Scalar.maxsi c0_i32_1079 v1652
  let v1654 : BitVec 32 := Scalar.minsi c256_i32_1080 v1653
  let v1805 : BitVec 32 := Scalar.subi v1654 v1651
  let c1_i32_1195 : BitVec 32 := 1#32
  let v1807 : BitVec 32 := Scalar.divsi v1805 c1_i32_1195
  let v1808 : BitVec 32 := Scalar.muli v1807 c1_i32_1195
  let v1809 : BitVec 32 := Scalar.addi v1651 v1808
  let c1_i32_1196 : BitVec 32 := 1#32
  ⟨v1651, v1809, c1_i32_1196⟩
def k3_cond113 (i : grid3.Coords) (v442 : BitVec 32) (v447 : BitVec 32) : BitVec 1 :=
  let c256_i32_1080 : BitVec 32 := 256#32
  let c0_i32_1079 : BitVec 32 := 0#32
  let c1024_i32_193 : BitVec 32 := 1024#32
  let c0_i32_192 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v448 : BitVec 32 := Scalar.subi v447 v3
  let v449 : BitVec 32 := Scalar.maxsi c0_i32_192 v448
  let v450 : BitVec 32 := Scalar.minsi c1024_i32_193 v449
  let c768_i32_1078 : BitVec 32 := 768#32
  let v1652 : BitVec 32 := Scalar.subi v450 c768_i32_1078
  let v1653 : BitVec 32 := Scalar.maxsi c0_i32_1079 v1652
  let v1654 : BitVec 32 := Scalar.minsi c256_i32_1080 v1653
  let c256_i32_1077 : BitVec 32 := 256#32
  let c0_i32_1076 : BitVec 32 := 0#32
  let c1024_i32_191 : BitVec 32 := 1024#32
  let c0_i32_190 : BitVec 32 := 0#32
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let v1655 : BitVec 1 := Scalar.cmpi .sgt v1654 v1651
  let v1656 : BitVec 32 := Scalar.extui v1655
  let c0_i32_1081 : BitVec 32 := 0#32
  let v1657 : BitVec 1 := Scalar.cmpi .ne v1656 c0_i32_1081
  v1657

def k3_off899 (i : grid3.Coords) (v442 : BitVec 32) (v447 : BitVec 32) (k3_t225 : Fin (k3_t225_loop i v442 v447).trips) : Fin 2 → Nat :=
  let c256_i32_1077 : BitVec 32 := 256#32
  let c0_i32_1076 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let c1_i32_1196 : BitVec 32 := 1#32
  let arg13 : BitVec 32 := Scf.iv v1651 c1_i32_1196 k3_t225
  let v1828 : Index := Scalar.indexCast arg13
  let c0_1206 : Index := 0#32
  ![v1828.toNat, 0]
def k3_off900 (i : grid3.Coords) (v442 : BitVec 32) (v447 : BitVec 32) (k3_t225 : Fin (k3_t225_loop i v442 v447).trips) : Fin 2 → Nat :=
  let c256_i32_1077 : BitVec 32 := 256#32
  let c0_i32_1076 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let c1_i32_1196 : BitVec 32 := 1#32
  let arg13 : BitVec 32 := Scf.iv v1651 c1_i32_1196 k3_t225
  let v1832 : Index := Scalar.indexCast arg13
  let c16_1207 : Index := 16#32
  ![v1832.toNat, 16]
def k3_off901 (i : grid3.Coords) (v442 : BitVec 32) (v447 : BitVec 32) (k3_t225 : Fin (k3_t225_loop i v442 v447).trips) : Fin 2 → Nat :=
  let c256_i32_1077 : BitVec 32 := 256#32
  let c0_i32_1076 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let c1_i32_1196 : BitVec 32 := 1#32
  let arg13 : BitVec 32 := Scf.iv v1651 c1_i32_1196 k3_t225
  let v1836 : Index := Scalar.indexCast arg13
  let c32_1208 : Index := 32#32
  ![v1836.toNat, 32]
def k3_off902 (i : grid3.Coords) (v442 : BitVec 32) (v447 : BitVec 32) (k3_t225 : Fin (k3_t225_loop i v442 v447).trips) : Fin 2 → Nat :=
  let c256_i32_1077 : BitVec 32 := 256#32
  let c0_i32_1076 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let c1_i32_1196 : BitVec 32 := 1#32
  let arg13 : BitVec 32 := Scf.iv v1651 c1_i32_1196 k3_t225
  let v1840 : Index := Scalar.indexCast arg13
  let c48_1209 : Index := 48#32
  ![v1840.toNat, 48]
@[reducible] def k3_t226_loop (i : grid3.Coords) (v442 : BitVec 32) (v447 : BitVec 32) : Scf.Loop 32 :=
  let c256_i32_1077 : BitVec 32 := 256#32
  let c0_i32_1076 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let c256_i32_1080 : BitVec 32 := 256#32
  let c0_i32_1079 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c768_i32_1078 : BitVec 32 := 768#32
  let v1652 : BitVec 32 := Scalar.subi v450 c768_i32_1078
  let v1653 : BitVec 32 := Scalar.maxsi c0_i32_1079 v1652
  let v1654 : BitVec 32 := Scalar.minsi c256_i32_1080 v1653
  let v1805 : BitVec 32 := Scalar.subi v1654 v1651
  let c1_i32_1195 : BitVec 32 := 1#32
  let v1807 : BitVec 32 := Scalar.divsi v1805 c1_i32_1195
  let v1808 : BitVec 32 := Scalar.muli v1807 c1_i32_1195
  let v1809 : BitVec 32 := Scalar.addi v1651 v1808
  let v1806 : BitVec 32 := Scalar.addi v1651 v1805
  let c1_i32_1197 : BitVec 32 := 1#32
  ⟨v1809, v1806, c1_i32_1197⟩
def k3_off903 (i : grid3.Coords) (v442 : BitVec 32) (v447 : BitVec 32) (k3_t226 : Fin (k3_t226_loop i v442 v447).trips) : Fin 2 → Nat :=
  let c256_i32_1077 : BitVec 32 := 256#32
  let c0_i32_1076 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let c256_i32_1080 : BitVec 32 := 256#32
  let c0_i32_1079 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c768_i32_1078 : BitVec 32 := 768#32
  let v1652 : BitVec 32 := Scalar.subi v450 c768_i32_1078
  let v1653 : BitVec 32 := Scalar.maxsi c0_i32_1079 v1652
  let v1654 : BitVec 32 := Scalar.minsi c256_i32_1080 v1653
  let v1805 : BitVec 32 := Scalar.subi v1654 v1651
  let c1_i32_1195 : BitVec 32 := 1#32
  let v1807 : BitVec 32 := Scalar.divsi v1805 c1_i32_1195
  let v1808 : BitVec 32 := Scalar.muli v1807 c1_i32_1195
  let v1809 : BitVec 32 := Scalar.addi v1651 v1808
  let c1_i32_1197 : BitVec 32 := 1#32
  let arg13 : BitVec 32 := Scf.iv v1809 c1_i32_1197 k3_t226
  let v1828 : Index := Scalar.indexCast arg13
  let c0_1206 : Index := 0#32
  ![v1828.toNat, 0]
def k3_off904 (i : grid3.Coords) (v442 : BitVec 32) (v447 : BitVec 32) (k3_t226 : Fin (k3_t226_loop i v442 v447).trips) : Fin 2 → Nat :=
  let c256_i32_1077 : BitVec 32 := 256#32
  let c0_i32_1076 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let c256_i32_1080 : BitVec 32 := 256#32
  let c0_i32_1079 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c768_i32_1078 : BitVec 32 := 768#32
  let v1652 : BitVec 32 := Scalar.subi v450 c768_i32_1078
  let v1653 : BitVec 32 := Scalar.maxsi c0_i32_1079 v1652
  let v1654 : BitVec 32 := Scalar.minsi c256_i32_1080 v1653
  let v1805 : BitVec 32 := Scalar.subi v1654 v1651
  let c1_i32_1195 : BitVec 32 := 1#32
  let v1807 : BitVec 32 := Scalar.divsi v1805 c1_i32_1195
  let v1808 : BitVec 32 := Scalar.muli v1807 c1_i32_1195
  let v1809 : BitVec 32 := Scalar.addi v1651 v1808
  let c1_i32_1197 : BitVec 32 := 1#32
  let arg13 : BitVec 32 := Scf.iv v1809 c1_i32_1197 k3_t226
  let v1832 : Index := Scalar.indexCast arg13
  let c16_1207 : Index := 16#32
  ![v1832.toNat, 16]
def k3_off905 (i : grid3.Coords) (v442 : BitVec 32) (v447 : BitVec 32) (k3_t226 : Fin (k3_t226_loop i v442 v447).trips) : Fin 2 → Nat :=
  let c256_i32_1077 : BitVec 32 := 256#32
  let c0_i32_1076 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let c256_i32_1080 : BitVec 32 := 256#32
  let c0_i32_1079 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c768_i32_1078 : BitVec 32 := 768#32
  let v1652 : BitVec 32 := Scalar.subi v450 c768_i32_1078
  let v1653 : BitVec 32 := Scalar.maxsi c0_i32_1079 v1652
  let v1654 : BitVec 32 := Scalar.minsi c256_i32_1080 v1653
  let v1805 : BitVec 32 := Scalar.subi v1654 v1651
  let c1_i32_1195 : BitVec 32 := 1#32
  let v1807 : BitVec 32 := Scalar.divsi v1805 c1_i32_1195
  let v1808 : BitVec 32 := Scalar.muli v1807 c1_i32_1195
  let v1809 : BitVec 32 := Scalar.addi v1651 v1808
  let c1_i32_1197 : BitVec 32 := 1#32
  let arg13 : BitVec 32 := Scf.iv v1809 c1_i32_1197 k3_t226
  let v1836 : Index := Scalar.indexCast arg13
  let c32_1208 : Index := 32#32
  ![v1836.toNat, 32]
def k3_off906 (i : grid3.Coords) (v442 : BitVec 32) (v447 : BitVec 32) (k3_t226 : Fin (k3_t226_loop i v442 v447).trips) : Fin 2 → Nat :=
  let c256_i32_1077 : BitVec 32 := 256#32
  let c0_i32_1076 : BitVec 32 := 0#32
  let c1024_i32_191 : BitVec 32 := 1024#32
  let c0_i32_190 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v443 : BitVec 32 := Scalar.subi v442 v3
  let v444 : BitVec 32 := Scalar.maxsi c0_i32_190 v443
  let v445 : BitVec 32 := Scalar.minsi c1024_i32_191 v444
  let c768_i32_1075 : BitVec 32 := 768#32
  let v1649 : BitVec 32 := Scalar.subi v445 c768_i32_1075
  let v1650 : BitVec 32 := Scalar.maxsi c0_i32_1076 v1649
  let v1651 : BitVec 32 := Scalar.minsi c256_i32_1077 v1650
  let c256_i32_1080 : BitVec 32 := 256#32
  let c0_i32_1079 : BitVec 32 := 0#32
  let c1024_i32_193 : BitVec 32 := 1024#32
  let c0_i32_192 : BitVec 32 := 0#32
  let v448 : BitVec 32 := Scalar.subi v447 v3
  let v449 : BitVec 32 := Scalar.maxsi c0_i32_192 v448
  let v450 : BitVec 32 := Scalar.minsi c1024_i32_193 v449
  let c768_i32_1078 : BitVec 32 := 768#32
  let v1652 : BitVec 32 := Scalar.subi v450 c768_i32_1078
  let v1653 : BitVec 32 := Scalar.maxsi c0_i32_1079 v1652
  let v1654 : BitVec 32 := Scalar.minsi c256_i32_1080 v1653
  let v1805 : BitVec 32 := Scalar.subi v1654 v1651
  let c1_i32_1195 : BitVec 32 := 1#32
  let v1807 : BitVec 32 := Scalar.divsi v1805 c1_i32_1195
  let v1808 : BitVec 32 := Scalar.muli v1807 c1_i32_1195
  let v1809 : BitVec 32 := Scalar.addi v1651 v1808
  let c1_i32_1197 : BitVec 32 := 1#32
  let arg13 : BitVec 32 := Scf.iv v1809 c1_i32_1197 k3_t226
  let v1840 : Index := Scalar.indexCast arg13
  let c48_1209 : Index := 48#32
  ![v1840.toNat, 48]

def k3_chk17_0 (i : grid3.Coords) (v442 : BitVec 32) (v447 : BitVec 32) : Prop :=
  (∀ (k3_h17 : k3_cond17 i v442 v447 = 1#1), (k3_t33_loop i v442 v447).OK) ∧
  (∀ k3_t33 : Fin (k3_t33_loop i v442 v447).trips, ∀ (k3_h17 : k3_cond17 i v442 v447 = 1#1), ∀ a, (k3_off130 i v442 v447 k3_t33) a + S1x16.size a ≤ S256x128.size a) ∧
  (∀ k3_t33 : Fin (k3_t33_loop i v442 v447).trips, ∀ (k3_h17 : k3_cond17 i v442 v447 = 1#1), ∀ a, (k3_off131 i v442 v447 k3_t33) a + S1x16.size a ≤ S256x128.size a) ∧
  (∀ k3_t33 : Fin (k3_t33_loop i v442 v447).trips, ∀ (k3_h17 : k3_cond17 i v442 v447 = 1#1), ∀ a, (k3_off132 i v442 v447 k3_t33) a + S1x16.size a ≤ S256x128.size a) ∧
  (∀ k3_t33 : Fin (k3_t33_loop i v442 v447).trips, ∀ (k3_h17 : k3_cond17 i v442 v447 = 1#1), ∀ a, (k3_off133 i v442 v447 k3_t33) a + S1x16.size a ≤ S256x128.size a) ∧
  (∀ (k3_h17 : k3_cond17 i v442 v447 = 1#1), (k3_t34_loop i v442 v447).OK) ∧
  (∀ k3_t34 : Fin (k3_t34_loop i v442 v447).trips, ∀ (k3_h17 : k3_cond17 i v442 v447 = 1#1), ∀ a, (k3_off134 i v442 v447 k3_t34) a + S1x16.size a ≤ S256x128.size a) ∧
  (∀ k3_t34 : Fin (k3_t34_loop i v442 v447).trips, ∀ (k3_h17 : k3_cond17 i v442 v447 = 1#1), ∀ a, (k3_off135 i v442 v447 k3_t34) a + S1x16.size a ≤ S256x128.size a) ∧
  (∀ k3_t34 : Fin (k3_t34_loop i v442 v447).trips, ∀ (k3_h17 : k3_cond17 i v442 v447 = 1#1), ∀ a, (k3_off136 i v442 v447 k3_t34) a + S1x16.size a ≤ S256x128.size a) ∧
  (∀ k3_t34 : Fin (k3_t34_loop i v442 v447).trips, ∀ (k3_h17 : k3_cond17 i v442 v447 = 1#1), ∀ a, (k3_off137 i v442 v447 k3_t34) a + S1x16.size a ≤ S256x128.size a) ∧
  (∀ (k3_h49 : k3_cond49 i v442 v447 = 1#1), (k3_t97_loop i v442 v447).OK) ∧
  (∀ k3_t97 : Fin (k3_t97_loop i v442 v447).trips, ∀ (k3_h49 : k3_cond49 i v442 v447 = 1#1), ∀ a, (k3_off387 i v442 v447 k3_t97) a + S1x16.size a ≤ S256x128.size a) ∧
  (∀ k3_t97 : Fin (k3_t97_loop i v442 v447).trips, ∀ (k3_h49 : k3_cond49 i v442 v447 = 1#1), ∀ a, (k3_off388 i v442 v447 k3_t97) a + S1x16.size a ≤ S256x128.size a) ∧
  (∀ k3_t97 : Fin (k3_t97_loop i v442 v447).trips, ∀ (k3_h49 : k3_cond49 i v442 v447 = 1#1), ∀ a, (k3_off389 i v442 v447 k3_t97) a + S1x16.size a ≤ S256x128.size a) ∧
  (∀ k3_t97 : Fin (k3_t97_loop i v442 v447).trips, ∀ (k3_h49 : k3_cond49 i v442 v447 = 1#1), ∀ a, (k3_off390 i v442 v447 k3_t97) a + S1x16.size a ≤ S256x128.size a) ∧
  (∀ (k3_h49 : k3_cond49 i v442 v447 = 1#1), (k3_t98_loop i v442 v447).OK) ∧
  (∀ k3_t98 : Fin (k3_t98_loop i v442 v447).trips, ∀ (k3_h49 : k3_cond49 i v442 v447 = 1#1), ∀ a, (k3_off391 i v442 v447 k3_t98) a + S1x16.size a ≤ S256x128.size a) ∧
  (∀ k3_t98 : Fin (k3_t98_loop i v442 v447).trips, ∀ (k3_h49 : k3_cond49 i v442 v447 = 1#1), ∀ a, (k3_off392 i v442 v447 k3_t98) a + S1x16.size a ≤ S256x128.size a) ∧
  (∀ k3_t98 : Fin (k3_t98_loop i v442 v447).trips, ∀ (k3_h49 : k3_cond49 i v442 v447 = 1#1), ∀ a, (k3_off393 i v442 v447 k3_t98) a + S1x16.size a ≤ S256x128.size a) ∧
  (∀ k3_t98 : Fin (k3_t98_loop i v442 v447).trips, ∀ (k3_h49 : k3_cond49 i v442 v447 = 1#1), ∀ a, (k3_off394 i v442 v447 k3_t98) a + S1x16.size a ≤ S256x128.size a) ∧
  (∀ (k3_h81 : k3_cond81 i v442 v447 = 1#1), (k3_t161_loop i v442 v447).OK) ∧
  (∀ k3_t161 : Fin (k3_t161_loop i v442 v447).trips, ∀ (k3_h81 : k3_cond81 i v442 v447 = 1#1), ∀ a, (k3_off643 i v442 v447 k3_t161) a + S1x16.size a ≤ S256x128.size a) ∧
  (∀ k3_t161 : Fin (k3_t161_loop i v442 v447).trips, ∀ (k3_h81 : k3_cond81 i v442 v447 = 1#1), ∀ a, (k3_off644 i v442 v447 k3_t161) a + S1x16.size a ≤ S256x128.size a) ∧
  (∀ k3_t161 : Fin (k3_t161_loop i v442 v447).trips, ∀ (k3_h81 : k3_cond81 i v442 v447 = 1#1), ∀ a, (k3_off645 i v442 v447 k3_t161) a + S1x16.size a ≤ S256x128.size a) ∧
  (∀ k3_t161 : Fin (k3_t161_loop i v442 v447).trips, ∀ (k3_h81 : k3_cond81 i v442 v447 = 1#1), ∀ a, (k3_off646 i v442 v447 k3_t161) a + S1x16.size a ≤ S256x128.size a) ∧
  (∀ (k3_h81 : k3_cond81 i v442 v447 = 1#1), (k3_t162_loop i v442 v447).OK) ∧
  (∀ k3_t162 : Fin (k3_t162_loop i v442 v447).trips, ∀ (k3_h81 : k3_cond81 i v442 v447 = 1#1), ∀ a, (k3_off647 i v442 v447 k3_t162) a + S1x16.size a ≤ S256x128.size a) ∧
  (∀ k3_t162 : Fin (k3_t162_loop i v442 v447).trips, ∀ (k3_h81 : k3_cond81 i v442 v447 = 1#1), ∀ a, (k3_off648 i v442 v447 k3_t162) a + S1x16.size a ≤ S256x128.size a) ∧
  (∀ k3_t162 : Fin (k3_t162_loop i v442 v447).trips, ∀ (k3_h81 : k3_cond81 i v442 v447 = 1#1), ∀ a, (k3_off649 i v442 v447 k3_t162) a + S1x16.size a ≤ S256x128.size a) ∧
  (∀ k3_t162 : Fin (k3_t162_loop i v442 v447).trips, ∀ (k3_h81 : k3_cond81 i v442 v447 = 1#1), ∀ a, (k3_off650 i v442 v447 k3_t162) a + S1x16.size a ≤ S256x128.size a) ∧
  (∀ (k3_h113 : k3_cond113 i v442 v447 = 1#1), (k3_t225_loop i v442 v447).OK) ∧
  (∀ k3_t225 : Fin (k3_t225_loop i v442 v447).trips, ∀ (k3_h113 : k3_cond113 i v442 v447 = 1#1), ∀ a, (k3_off899 i v442 v447 k3_t225) a + S1x16.size a ≤ S256x128.size a)
def k3_chk17_1 (i : grid3.Coords) (v442 : BitVec 32) (v447 : BitVec 32) : Prop :=
  (∀ k3_t225 : Fin (k3_t225_loop i v442 v447).trips, ∀ (k3_h113 : k3_cond113 i v442 v447 = 1#1), ∀ a, (k3_off900 i v442 v447 k3_t225) a + S1x16.size a ≤ S256x128.size a) ∧
  (∀ k3_t225 : Fin (k3_t225_loop i v442 v447).trips, ∀ (k3_h113 : k3_cond113 i v442 v447 = 1#1), ∀ a, (k3_off901 i v442 v447 k3_t225) a + S1x16.size a ≤ S256x128.size a) ∧
  (∀ k3_t225 : Fin (k3_t225_loop i v442 v447).trips, ∀ (k3_h113 : k3_cond113 i v442 v447 = 1#1), ∀ a, (k3_off902 i v442 v447 k3_t225) a + S1x16.size a ≤ S256x128.size a) ∧
  (∀ (k3_h113 : k3_cond113 i v442 v447 = 1#1), (k3_t226_loop i v442 v447).OK) ∧
  (∀ k3_t226 : Fin (k3_t226_loop i v442 v447).trips, ∀ (k3_h113 : k3_cond113 i v442 v447 = 1#1), ∀ a, (k3_off903 i v442 v447 k3_t226) a + S1x16.size a ≤ S256x128.size a) ∧
  (∀ k3_t226 : Fin (k3_t226_loop i v442 v447).trips, ∀ (k3_h113 : k3_cond113 i v442 v447 = 1#1), ∀ a, (k3_off904 i v442 v447 k3_t226) a + S1x16.size a ≤ S256x128.size a) ∧
  (∀ k3_t226 : Fin (k3_t226_loop i v442 v447).trips, ∀ (k3_h113 : k3_cond113 i v442 v447 = 1#1), ∀ a, (k3_off905 i v442 v447 k3_t226) a + S1x16.size a ≤ S256x128.size a) ∧
  (∀ k3_t226 : Fin (k3_t226_loop i v442 v447).trips, ∀ (k3_h113 : k3_cond113 i v442 v447 = 1#1), ∀ a, (k3_off906 i v442 v447 k3_t226) a + S1x16.size a ≤ S256x128.size a)
def k3_chk17 (i : grid3.Coords) (v442 : BitVec 32) (v447 : BitVec 32) : Prop :=
  k3_chk17_0 i v442 v447 ∧
  k3_chk17_1 i v442 v447
theorem k3_t33_ok : ∀ (i : grid3.Coords) (v442 : BitVec 32) (v447 : BitVec 32) (k3_hw17 : k3_chk17 i v442 v447), ∀ (k3_h17 : k3_cond17 i v442 v447 = 1#1), (k3_t33_loop i v442 v447).OK := fun i v442 v447 k3_hw17 k3_h17 => k3_hw17.1.1 k3_h17
theorem k3_off130_inb : ∀ (i : grid3.Coords) (v442 : BitVec 32) (v447 : BitVec 32) (k3_hw17 : k3_chk17 i v442 v447) (k3_t33 : Fin (k3_t33_loop i v442 v447).trips), ∀ (k3_h17 : k3_cond17 i v442 v447 = 1#1), ∀ a, (k3_off130 i v442 v447 k3_t33) a + S1x16.size a ≤ S256x128.size a := fun i v442 v447 k3_hw17 k3_t33 k3_h17 => k3_hw17.1.2.1 k3_t33 k3_h17
theorem k3_off131_inb : ∀ (i : grid3.Coords) (v442 : BitVec 32) (v447 : BitVec 32) (k3_hw17 : k3_chk17 i v442 v447) (k3_t33 : Fin (k3_t33_loop i v442 v447).trips), ∀ (k3_h17 : k3_cond17 i v442 v447 = 1#1), ∀ a, (k3_off131 i v442 v447 k3_t33) a + S1x16.size a ≤ S256x128.size a := fun i v442 v447 k3_hw17 k3_t33 k3_h17 => k3_hw17.1.2.2.1 k3_t33 k3_h17
theorem k3_off132_inb : ∀ (i : grid3.Coords) (v442 : BitVec 32) (v447 : BitVec 32) (k3_hw17 : k3_chk17 i v442 v447) (k3_t33 : Fin (k3_t33_loop i v442 v447).trips), ∀ (k3_h17 : k3_cond17 i v442 v447 = 1#1), ∀ a, (k3_off132 i v442 v447 k3_t33) a + S1x16.size a ≤ S256x128.size a := fun i v442 v447 k3_hw17 k3_t33 k3_h17 => k3_hw17.1.2.2.2.1 k3_t33 k3_h17
theorem k3_off133_inb : ∀ (i : grid3.Coords) (v442 : BitVec 32) (v447 : BitVec 32) (k3_hw17 : k3_chk17 i v442 v447) (k3_t33 : Fin (k3_t33_loop i v442 v447).trips), ∀ (k3_h17 : k3_cond17 i v442 v447 = 1#1), ∀ a, (k3_off133 i v442 v447 k3_t33) a + S1x16.size a ≤ S256x128.size a := fun i v442 v447 k3_hw17 k3_t33 k3_h17 => k3_hw17.1.2.2.2.2.1 k3_t33 k3_h17
theorem k3_t34_ok : ∀ (i : grid3.Coords) (v442 : BitVec 32) (v447 : BitVec 32) (k3_hw17 : k3_chk17 i v442 v447), ∀ (k3_h17 : k3_cond17 i v442 v447 = 1#1), (k3_t34_loop i v442 v447).OK := fun i v442 v447 k3_hw17 k3_h17 => k3_hw17.1.2.2.2.2.2.1 k3_h17
theorem k3_off134_inb : ∀ (i : grid3.Coords) (v442 : BitVec 32) (v447 : BitVec 32) (k3_hw17 : k3_chk17 i v442 v447) (k3_t34 : Fin (k3_t34_loop i v442 v447).trips), ∀ (k3_h17 : k3_cond17 i v442 v447 = 1#1), ∀ a, (k3_off134 i v442 v447 k3_t34) a + S1x16.size a ≤ S256x128.size a := fun i v442 v447 k3_hw17 k3_t34 k3_h17 => k3_hw17.1.2.2.2.2.2.2.1 k3_t34 k3_h17
theorem k3_off135_inb : ∀ (i : grid3.Coords) (v442 : BitVec 32) (v447 : BitVec 32) (k3_hw17 : k3_chk17 i v442 v447) (k3_t34 : Fin (k3_t34_loop i v442 v447).trips), ∀ (k3_h17 : k3_cond17 i v442 v447 = 1#1), ∀ a, (k3_off135 i v442 v447 k3_t34) a + S1x16.size a ≤ S256x128.size a := fun i v442 v447 k3_hw17 k3_t34 k3_h17 => k3_hw17.1.2.2.2.2.2.2.2.1 k3_t34 k3_h17
theorem k3_off136_inb : ∀ (i : grid3.Coords) (v442 : BitVec 32) (v447 : BitVec 32) (k3_hw17 : k3_chk17 i v442 v447) (k3_t34 : Fin (k3_t34_loop i v442 v447).trips), ∀ (k3_h17 : k3_cond17 i v442 v447 = 1#1), ∀ a, (k3_off136 i v442 v447 k3_t34) a + S1x16.size a ≤ S256x128.size a := fun i v442 v447 k3_hw17 k3_t34 k3_h17 => k3_hw17.1.2.2.2.2.2.2.2.2.1 k3_t34 k3_h17
theorem k3_off137_inb : ∀ (i : grid3.Coords) (v442 : BitVec 32) (v447 : BitVec 32) (k3_hw17 : k3_chk17 i v442 v447) (k3_t34 : Fin (k3_t34_loop i v442 v447).trips), ∀ (k3_h17 : k3_cond17 i v442 v447 = 1#1), ∀ a, (k3_off137 i v442 v447 k3_t34) a + S1x16.size a ≤ S256x128.size a := fun i v442 v447 k3_hw17 k3_t34 k3_h17 => k3_hw17.1.2.2.2.2.2.2.2.2.2.1 k3_t34 k3_h17
theorem k3_t97_ok : ∀ (i : grid3.Coords) (v442 : BitVec 32) (v447 : BitVec 32) (k3_hw17 : k3_chk17 i v442 v447), ∀ (k3_h49 : k3_cond49 i v442 v447 = 1#1), (k3_t97_loop i v442 v447).OK := fun i v442 v447 k3_hw17 k3_h49 => k3_hw17.1.2.2.2.2.2.2.2.2.2.2.1 k3_h49
theorem k3_off387_inb : ∀ (i : grid3.Coords) (v442 : BitVec 32) (v447 : BitVec 32) (k3_hw17 : k3_chk17 i v442 v447) (k3_t97 : Fin (k3_t97_loop i v442 v447).trips), ∀ (k3_h49 : k3_cond49 i v442 v447 = 1#1), ∀ a, (k3_off387 i v442 v447 k3_t97) a + S1x16.size a ≤ S256x128.size a := fun i v442 v447 k3_hw17 k3_t97 k3_h49 => k3_hw17.1.2.2.2.2.2.2.2.2.2.2.2.1 k3_t97 k3_h49
theorem k3_off388_inb : ∀ (i : grid3.Coords) (v442 : BitVec 32) (v447 : BitVec 32) (k3_hw17 : k3_chk17 i v442 v447) (k3_t97 : Fin (k3_t97_loop i v442 v447).trips), ∀ (k3_h49 : k3_cond49 i v442 v447 = 1#1), ∀ a, (k3_off388 i v442 v447 k3_t97) a + S1x16.size a ≤ S256x128.size a := fun i v442 v447 k3_hw17 k3_t97 k3_h49 => k3_hw17.1.2.2.2.2.2.2.2.2.2.2.2.2.1 k3_t97 k3_h49
theorem k3_off389_inb : ∀ (i : grid3.Coords) (v442 : BitVec 32) (v447 : BitVec 32) (k3_hw17 : k3_chk17 i v442 v447) (k3_t97 : Fin (k3_t97_loop i v442 v447).trips), ∀ (k3_h49 : k3_cond49 i v442 v447 = 1#1), ∀ a, (k3_off389 i v442 v447 k3_t97) a + S1x16.size a ≤ S256x128.size a := fun i v442 v447 k3_hw17 k3_t97 k3_h49 => k3_hw17.1.2.2.2.2.2.2.2.2.2.2.2.2.2.1 k3_t97 k3_h49
theorem k3_off390_inb : ∀ (i : grid3.Coords) (v442 : BitVec 32) (v447 : BitVec 32) (k3_hw17 : k3_chk17 i v442 v447) (k3_t97 : Fin (k3_t97_loop i v442 v447).trips), ∀ (k3_h49 : k3_cond49 i v442 v447 = 1#1), ∀ a, (k3_off390 i v442 v447 k3_t97) a + S1x16.size a ≤ S256x128.size a := fun i v442 v447 k3_hw17 k3_t97 k3_h49 => k3_hw17.1.2.2.2.2.2.2.2.2.2.2.2.2.2.2.1 k3_t97 k3_h49
theorem k3_t98_ok : ∀ (i : grid3.Coords) (v442 : BitVec 32) (v447 : BitVec 32) (k3_hw17 : k3_chk17 i v442 v447), ∀ (k3_h49 : k3_cond49 i v442 v447 = 1#1), (k3_t98_loop i v442 v447).OK := fun i v442 v447 k3_hw17 k3_h49 => k3_hw17.1.2.2.2.2.2.2.2.2.2.2.2.2.2.2.2.1 k3_h49
theorem k3_off391_inb : ∀ (i : grid3.Coords) (v442 : BitVec 32) (v447 : BitVec 32) (k3_hw17 : k3_chk17 i v442 v447) (k3_t98 : Fin (k3_t98_loop i v442 v447).trips), ∀ (k3_h49 : k3_cond49 i v442 v447 = 1#1), ∀ a, (k3_off391 i v442 v447 k3_t98) a + S1x16.size a ≤ S256x128.size a := fun i v442 v447 k3_hw17 k3_t98 k3_h49 => k3_hw17.1.2.2.2.2.2.2.2.2.2.2.2.2.2.2.2.2.1 k3_t98 k3_h49
theorem k3_off392_inb : ∀ (i : grid3.Coords) (v442 : BitVec 32) (v447 : BitVec 32) (k3_hw17 : k3_chk17 i v442 v447) (k3_t98 : Fin (k3_t98_loop i v442 v447).trips), ∀ (k3_h49 : k3_cond49 i v442 v447 = 1#1), ∀ a, (k3_off392 i v442 v447 k3_t98) a + S1x16.size a ≤ S256x128.size a := fun i v442 v447 k3_hw17 k3_t98 k3_h49 => k3_hw17.1.2.2.2.2.2.2.2.2.2.2.2.2.2.2.2.2.2.1 k3_t98 k3_h49
theorem k3_off393_inb : ∀ (i : grid3.Coords) (v442 : BitVec 32) (v447 : BitVec 32) (k3_hw17 : k3_chk17 i v442 v447) (k3_t98 : Fin (k3_t98_loop i v442 v447).trips), ∀ (k3_h49 : k3_cond49 i v442 v447 = 1#1), ∀ a, (k3_off393 i v442 v447 k3_t98) a + S1x16.size a ≤ S256x128.size a := fun i v442 v447 k3_hw17 k3_t98 k3_h49 => k3_hw17.1.2.2.2.2.2.2.2.2.2.2.2.2.2.2.2.2.2.2.1 k3_t98 k3_h49
theorem k3_off394_inb : ∀ (i : grid3.Coords) (v442 : BitVec 32) (v447 : BitVec 32) (k3_hw17 : k3_chk17 i v442 v447) (k3_t98 : Fin (k3_t98_loop i v442 v447).trips), ∀ (k3_h49 : k3_cond49 i v442 v447 = 1#1), ∀ a, (k3_off394 i v442 v447 k3_t98) a + S1x16.size a ≤ S256x128.size a := fun i v442 v447 k3_hw17 k3_t98 k3_h49 => k3_hw17.1.2.2.2.2.2.2.2.2.2.2.2.2.2.2.2.2.2.2.2.1 k3_t98 k3_h49
theorem k3_t161_ok : ∀ (i : grid3.Coords) (v442 : BitVec 32) (v447 : BitVec 32) (k3_hw17 : k3_chk17 i v442 v447), ∀ (k3_h81 : k3_cond81 i v442 v447 = 1#1), (k3_t161_loop i v442 v447).OK := fun i v442 v447 k3_hw17 k3_h81 => k3_hw17.1.2.2.2.2.2.2.2.2.2.2.2.2.2.2.2.2.2.2.2.2.1 k3_h81
theorem k3_off643_inb : ∀ (i : grid3.Coords) (v442 : BitVec 32) (v447 : BitVec 32) (k3_hw17 : k3_chk17 i v442 v447) (k3_t161 : Fin (k3_t161_loop i v442 v447).trips), ∀ (k3_h81 : k3_cond81 i v442 v447 = 1#1), ∀ a, (k3_off643 i v442 v447 k3_t161) a + S1x16.size a ≤ S256x128.size a := fun i v442 v447 k3_hw17 k3_t161 k3_h81 => k3_hw17.1.2.2.2.2.2.2.2.2.2.2.2.2.2.2.2.2.2.2.2.2.2.1 k3_t161 k3_h81
theorem k3_off644_inb : ∀ (i : grid3.Coords) (v442 : BitVec 32) (v447 : BitVec 32) (k3_hw17 : k3_chk17 i v442 v447) (k3_t161 : Fin (k3_t161_loop i v442 v447).trips), ∀ (k3_h81 : k3_cond81 i v442 v447 = 1#1), ∀ a, (k3_off644 i v442 v447 k3_t161) a + S1x16.size a ≤ S256x128.size a := fun i v442 v447 k3_hw17 k3_t161 k3_h81 => k3_hw17.1.2.2.2.2.2.2.2.2.2.2.2.2.2.2.2.2.2.2.2.2.2.2.1 k3_t161 k3_h81
theorem k3_off645_inb : ∀ (i : grid3.Coords) (v442 : BitVec 32) (v447 : BitVec 32) (k3_hw17 : k3_chk17 i v442 v447) (k3_t161 : Fin (k3_t161_loop i v442 v447).trips), ∀ (k3_h81 : k3_cond81 i v442 v447 = 1#1), ∀ a, (k3_off645 i v442 v447 k3_t161) a + S1x16.size a ≤ S256x128.size a := fun i v442 v447 k3_hw17 k3_t161 k3_h81 => k3_hw17.1.2.2.2.2.2.2.2.2.2.2.2.2.2.2.2.2.2.2.2.2.2.2.2.1 k3_t161 k3_h81
theorem k3_off646_inb : ∀ (i : grid3.Coords) (v442 : BitVec 32) (v447 : BitVec 32) (k3_hw17 : k3_chk17 i v442 v447) (k3_t161 : Fin (k3_t161_loop i v442 v447).trips), ∀ (k3_h81 : k3_cond81 i v442 v447 = 1#1), ∀ a, (k3_off646 i v442 v447 k3_t161) a + S1x16.size a ≤ S256x128.size a := fun i v442 v447 k3_hw17 k3_t161 k3_h81 => k3_hw17.1.2.2.2.2.2.2.2.2.2.2.2.2.2.2.2.2.2.2.2.2.2.2.2.2.1 k3_t161 k3_h81
theorem k3_t162_ok : ∀ (i : grid3.Coords) (v442 : BitVec 32) (v447 : BitVec 32) (k3_hw17 : k3_chk17 i v442 v447), ∀ (k3_h81 : k3_cond81 i v442 v447 = 1#1), (k3_t162_loop i v442 v447).OK := fun i v442 v447 k3_hw17 k3_h81 => k3_hw17.1.2.2.2.2.2.2.2.2.2.2.2.2.2.2.2.2.2.2.2.2.2.2.2.2.2.1 k3_h81
theorem k3_off647_inb : ∀ (i : grid3.Coords) (v442 : BitVec 32) (v447 : BitVec 32) (k3_hw17 : k3_chk17 i v442 v447) (k3_t162 : Fin (k3_t162_loop i v442 v447).trips), ∀ (k3_h81 : k3_cond81 i v442 v447 = 1#1), ∀ a, (k3_off647 i v442 v447 k3_t162) a + S1x16.size a ≤ S256x128.size a := fun i v442 v447 k3_hw17 k3_t162 k3_h81 => k3_hw17.1.2.2.2.2.2.2.2.2.2.2.2.2.2.2.2.2.2.2.2.2.2.2.2.2.2.2.1 k3_t162 k3_h81
theorem k3_off648_inb : ∀ (i : grid3.Coords) (v442 : BitVec 32) (v447 : BitVec 32) (k3_hw17 : k3_chk17 i v442 v447) (k3_t162 : Fin (k3_t162_loop i v442 v447).trips), ∀ (k3_h81 : k3_cond81 i v442 v447 = 1#1), ∀ a, (k3_off648 i v442 v447 k3_t162) a + S1x16.size a ≤ S256x128.size a := fun i v442 v447 k3_hw17 k3_t162 k3_h81 => k3_hw17.1.2.2.2.2.2.2.2.2.2.2.2.2.2.2.2.2.2.2.2.2.2.2.2.2.2.2.2.1 k3_t162 k3_h81
theorem k3_off649_inb : ∀ (i : grid3.Coords) (v442 : BitVec 32) (v447 : BitVec 32) (k3_hw17 : k3_chk17 i v442 v447) (k3_t162 : Fin (k3_t162_loop i v442 v447).trips), ∀ (k3_h81 : k3_cond81 i v442 v447 = 1#1), ∀ a, (k3_off649 i v442 v447 k3_t162) a + S1x16.size a ≤ S256x128.size a := fun i v442 v447 k3_hw17 k3_t162 k3_h81 => k3_hw17.1.2.2.2.2.2.2.2.2.2.2.2.2.2.2.2.2.2.2.2.2.2.2.2.2.2.2.2.2.1 k3_t162 k3_h81
theorem k3_off650_inb : ∀ (i : grid3.Coords) (v442 : BitVec 32) (v447 : BitVec 32) (k3_hw17 : k3_chk17 i v442 v447) (k3_t162 : Fin (k3_t162_loop i v442 v447).trips), ∀ (k3_h81 : k3_cond81 i v442 v447 = 1#1), ∀ a, (k3_off650 i v442 v447 k3_t162) a + S1x16.size a ≤ S256x128.size a := fun i v442 v447 k3_hw17 k3_t162 k3_h81 => k3_hw17.1.2.2.2.2.2.2.2.2.2.2.2.2.2.2.2.2.2.2.2.2.2.2.2.2.2.2.2.2.2.1 k3_t162 k3_h81
theorem k3_t225_ok : ∀ (i : grid3.Coords) (v442 : BitVec 32) (v447 : BitVec 32) (k3_hw17 : k3_chk17 i v442 v447), ∀ (k3_h113 : k3_cond113 i v442 v447 = 1#1), (k3_t225_loop i v442 v447).OK := fun i v442 v447 k3_hw17 k3_h113 => k3_hw17.1.2.2.2.2.2.2.2.2.2.2.2.2.2.2.2.2.2.2.2.2.2.2.2.2.2.2.2.2.2.2.1 k3_h113
theorem k3_off899_inb : ∀ (i : grid3.Coords) (v442 : BitVec 32) (v447 : BitVec 32) (k3_hw17 : k3_chk17 i v442 v447) (k3_t225 : Fin (k3_t225_loop i v442 v447).trips), ∀ (k3_h113 : k3_cond113 i v442 v447 = 1#1), ∀ a, (k3_off899 i v442 v447 k3_t225) a + S1x16.size a ≤ S256x128.size a := fun i v442 v447 k3_hw17 k3_t225 k3_h113 => k3_hw17.1.2.2.2.2.2.2.2.2.2.2.2.2.2.2.2.2.2.2.2.2.2.2.2.2.2.2.2.2.2.2.2 k3_t225 k3_h113
theorem k3_off900_inb : ∀ (i : grid3.Coords) (v442 : BitVec 32) (v447 : BitVec 32) (k3_hw17 : k3_chk17 i v442 v447) (k3_t225 : Fin (k3_t225_loop i v442 v447).trips), ∀ (k3_h113 : k3_cond113 i v442 v447 = 1#1), ∀ a, (k3_off900 i v442 v447 k3_t225) a + S1x16.size a ≤ S256x128.size a := fun i v442 v447 k3_hw17 k3_t225 k3_h113 => k3_hw17.2.1 k3_t225 k3_h113
theorem k3_off901_inb : ∀ (i : grid3.Coords) (v442 : BitVec 32) (v447 : BitVec 32) (k3_hw17 : k3_chk17 i v442 v447) (k3_t225 : Fin (k3_t225_loop i v442 v447).trips), ∀ (k3_h113 : k3_cond113 i v442 v447 = 1#1), ∀ a, (k3_off901 i v442 v447 k3_t225) a + S1x16.size a ≤ S256x128.size a := fun i v442 v447 k3_hw17 k3_t225 k3_h113 => k3_hw17.2.2.1 k3_t225 k3_h113
theorem k3_off902_inb : ∀ (i : grid3.Coords) (v442 : BitVec 32) (v447 : BitVec 32) (k3_hw17 : k3_chk17 i v442 v447) (k3_t225 : Fin (k3_t225_loop i v442 v447).trips), ∀ (k3_h113 : k3_cond113 i v442 v447 = 1#1), ∀ a, (k3_off902 i v442 v447 k3_t225) a + S1x16.size a ≤ S256x128.size a := fun i v442 v447 k3_hw17 k3_t225 k3_h113 => k3_hw17.2.2.2.1 k3_t225 k3_h113
theorem k3_t226_ok : ∀ (i : grid3.Coords) (v442 : BitVec 32) (v447 : BitVec 32) (k3_hw17 : k3_chk17 i v442 v447), ∀ (k3_h113 : k3_cond113 i v442 v447 = 1#1), (k3_t226_loop i v442 v447).OK := fun i v442 v447 k3_hw17 k3_h113 => k3_hw17.2.2.2.2.1 k3_h113
theorem k3_off903_inb : ∀ (i : grid3.Coords) (v442 : BitVec 32) (v447 : BitVec 32) (k3_hw17 : k3_chk17 i v442 v447) (k3_t226 : Fin (k3_t226_loop i v442 v447).trips), ∀ (k3_h113 : k3_cond113 i v442 v447 = 1#1), ∀ a, (k3_off903 i v442 v447 k3_t226) a + S1x16.size a ≤ S256x128.size a := fun i v442 v447 k3_hw17 k3_t226 k3_h113 => k3_hw17.2.2.2.2.2.1 k3_t226 k3_h113
theorem k3_off904_inb : ∀ (i : grid3.Coords) (v442 : BitVec 32) (v447 : BitVec 32) (k3_hw17 : k3_chk17 i v442 v447) (k3_t226 : Fin (k3_t226_loop i v442 v447).trips), ∀ (k3_h113 : k3_cond113 i v442 v447 = 1#1), ∀ a, (k3_off904 i v442 v447 k3_t226) a + S1x16.size a ≤ S256x128.size a := fun i v442 v447 k3_hw17 k3_t226 k3_h113 => k3_hw17.2.2.2.2.2.2.1 k3_t226 k3_h113
theorem k3_off905_inb : ∀ (i : grid3.Coords) (v442 : BitVec 32) (v447 : BitVec 32) (k3_hw17 : k3_chk17 i v442 v447) (k3_t226 : Fin (k3_t226_loop i v442 v447).trips), ∀ (k3_h113 : k3_cond113 i v442 v447 = 1#1), ∀ a, (k3_off905 i v442 v447 k3_t226) a + S1x16.size a ≤ S256x128.size a := fun i v442 v447 k3_hw17 k3_t226 k3_h113 => k3_hw17.2.2.2.2.2.2.2.1 k3_t226 k3_h113
theorem k3_off906_inb : ∀ (i : grid3.Coords) (v442 : BitVec 32) (v447 : BitVec 32) (k3_hw17 : k3_chk17 i v442 v447) (k3_t226 : Fin (k3_t226_loop i v442 v447).trips), ∀ (k3_h113 : k3_cond113 i v442 v447 = 1#1), ∀ a, (k3_off906 i v442 v447 k3_t226) a + S1x16.size a ≤ S256x128.size a := fun i v442 v447 k3_hw17 k3_t226 k3_h113 => k3_hw17.2.2.2.2.2.2.2.2 k3_t226 k3_h113

@[reducible] def k3_t227_loop (i : grid3.Coords) (v452 : BitVec 32) (v458 : BitVec 32) : Scf.Loop 32 :=
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let c256_i32_1087 : BitVec 32 := 256#32
  let c0_i32_1086 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c768_i32_1085 : BitVec 32 := 768#32
  let v1661 : BitVec 32 := Scalar.subi v462 c768_i32_1085
  let v1662 : BitVec 32 := Scalar.maxsi c0_i32_1086 v1661
  let v1663 : BitVec 32 := Scalar.minsi c256_i32_1087 v1662
  let v1805 : BitVec 32 := Scalar.subi v1663 v1660
  let c1_i32_1195 : BitVec 32 := 1#32
  let v1807 : BitVec 32 := Scalar.divsi v1805 c1_i32_1195
  let v1808 : BitVec 32 := Scalar.muli v1807 c1_i32_1195
  let v1809 : BitVec 32 := Scalar.addi v1660 v1808
  let c1_i32_1196 : BitVec 32 := 1#32
  ⟨v1660, v1809, c1_i32_1196⟩
def k3_cond114 (i : grid3.Coords) (v452 : BitVec 32) (v458 : BitVec 32) : BitVec 1 :=
  let c256_i32_1087 : BitVec 32 := 256#32
  let c0_i32_1086 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v460 : BitVec 32 := Scalar.subi v459 v3
  let v461 : BitVec 32 := Scalar.maxsi c0_i32_198 v460
  let v462 : BitVec 32 := Scalar.minsi c1024_i32_199 v461
  let c768_i32_1085 : BitVec 32 := 768#32
  let v1661 : BitVec 32 := Scalar.subi v462 c768_i32_1085
  let v1662 : BitVec 32 := Scalar.maxsi c0_i32_1086 v1661
  let v1663 : BitVec 32 := Scalar.minsi c256_i32_1087 v1662
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let v1664 : BitVec 1 := Scalar.cmpi .sgt v1663 v1660
  let v1665 : BitVec 32 := Scalar.extui v1664
  let c0_i32_1088 : BitVec 32 := 0#32
  let v1666 : BitVec 1 := Scalar.cmpi .ne v1665 c0_i32_1088
  v1666

def k3_off907 (i : grid3.Coords) (v452 : BitVec 32) (v458 : BitVec 32) (k3_t227 : Fin (k3_t227_loop i v452 v458).trips) : Fin 2 → Nat :=
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let c1_i32_1196 : BitVec 32 := 1#32
  let arg13 : BitVec 32 := Scf.iv v1660 c1_i32_1196 k3_t227
  let v1828 : Index := Scalar.indexCast arg13
  let c64 : Index := 64#32
  ![v1828.toNat, 64]
def k3_off908 (i : grid3.Coords) (v452 : BitVec 32) (v458 : BitVec 32) (k3_t227 : Fin (k3_t227_loop i v452 v458).trips) : Fin 2 → Nat :=
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let c1_i32_1196 : BitVec 32 := 1#32
  let arg13 : BitVec 32 := Scf.iv v1660 c1_i32_1196 k3_t227
  let v1832 : Index := Scalar.indexCast arg13
  let c80 : Index := 80#32
  ![v1832.toNat, 80]
def k3_off909 (i : grid3.Coords) (v452 : BitVec 32) (v458 : BitVec 32) (k3_t227 : Fin (k3_t227_loop i v452 v458).trips) : Fin 2 → Nat :=
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let c1_i32_1196 : BitVec 32 := 1#32
  let arg13 : BitVec 32 := Scf.iv v1660 c1_i32_1196 k3_t227
  let v1836 : Index := Scalar.indexCast arg13
  let c96 : Index := 96#32
  ![v1836.toNat, 96]
def k3_off910 (i : grid3.Coords) (v452 : BitVec 32) (v458 : BitVec 32) (k3_t227 : Fin (k3_t227_loop i v452 v458).trips) : Fin 2 → Nat :=
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let c1_i32_1196 : BitVec 32 := 1#32
  let arg13 : BitVec 32 := Scf.iv v1660 c1_i32_1196 k3_t227
  let v1840 : Index := Scalar.indexCast arg13
  let c112 : Index := 112#32
  ![v1840.toNat, 112]
@[reducible] def k3_t228_loop (i : grid3.Coords) (v452 : BitVec 32) (v458 : BitVec 32) : Scf.Loop 32 :=
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let c256_i32_1087 : BitVec 32 := 256#32
  let c0_i32_1086 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c768_i32_1085 : BitVec 32 := 768#32
  let v1661 : BitVec 32 := Scalar.subi v462 c768_i32_1085
  let v1662 : BitVec 32 := Scalar.maxsi c0_i32_1086 v1661
  let v1663 : BitVec 32 := Scalar.minsi c256_i32_1087 v1662
  let v1805 : BitVec 32 := Scalar.subi v1663 v1660
  let c1_i32_1195 : BitVec 32 := 1#32
  let v1807 : BitVec 32 := Scalar.divsi v1805 c1_i32_1195
  let v1808 : BitVec 32 := Scalar.muli v1807 c1_i32_1195
  let v1809 : BitVec 32 := Scalar.addi v1660 v1808
  let v1806 : BitVec 32 := Scalar.addi v1660 v1805
  let c1_i32_1197 : BitVec 32 := 1#32
  ⟨v1809, v1806, c1_i32_1197⟩
def k3_off911 (i : grid3.Coords) (v452 : BitVec 32) (v458 : BitVec 32) (k3_t228 : Fin (k3_t228_loop i v452 v458).trips) : Fin 2 → Nat :=
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let c256_i32_1087 : BitVec 32 := 256#32
  let c0_i32_1086 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c768_i32_1085 : BitVec 32 := 768#32
  let v1661 : BitVec 32 := Scalar.subi v462 c768_i32_1085
  let v1662 : BitVec 32 := Scalar.maxsi c0_i32_1086 v1661
  let v1663 : BitVec 32 := Scalar.minsi c256_i32_1087 v1662
  let v1805 : BitVec 32 := Scalar.subi v1663 v1660
  let c1_i32_1195 : BitVec 32 := 1#32
  let v1807 : BitVec 32 := Scalar.divsi v1805 c1_i32_1195
  let v1808 : BitVec 32 := Scalar.muli v1807 c1_i32_1195
  let v1809 : BitVec 32 := Scalar.addi v1660 v1808
  let c1_i32_1197 : BitVec 32 := 1#32
  let arg13 : BitVec 32 := Scf.iv v1809 c1_i32_1197 k3_t228
  let v1828 : Index := Scalar.indexCast arg13
  let c64 : Index := 64#32
  ![v1828.toNat, 64]
def k3_off912 (i : grid3.Coords) (v452 : BitVec 32) (v458 : BitVec 32) (k3_t228 : Fin (k3_t228_loop i v452 v458).trips) : Fin 2 → Nat :=
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let c256_i32_1087 : BitVec 32 := 256#32
  let c0_i32_1086 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c768_i32_1085 : BitVec 32 := 768#32
  let v1661 : BitVec 32 := Scalar.subi v462 c768_i32_1085
  let v1662 : BitVec 32 := Scalar.maxsi c0_i32_1086 v1661
  let v1663 : BitVec 32 := Scalar.minsi c256_i32_1087 v1662
  let v1805 : BitVec 32 := Scalar.subi v1663 v1660
  let c1_i32_1195 : BitVec 32 := 1#32
  let v1807 : BitVec 32 := Scalar.divsi v1805 c1_i32_1195
  let v1808 : BitVec 32 := Scalar.muli v1807 c1_i32_1195
  let v1809 : BitVec 32 := Scalar.addi v1660 v1808
  let c1_i32_1197 : BitVec 32 := 1#32
  let arg13 : BitVec 32 := Scf.iv v1809 c1_i32_1197 k3_t228
  let v1832 : Index := Scalar.indexCast arg13
  let c80 : Index := 80#32
  ![v1832.toNat, 80]
def k3_off913 (i : grid3.Coords) (v452 : BitVec 32) (v458 : BitVec 32) (k3_t228 : Fin (k3_t228_loop i v452 v458).trips) : Fin 2 → Nat :=
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let c256_i32_1087 : BitVec 32 := 256#32
  let c0_i32_1086 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c768_i32_1085 : BitVec 32 := 768#32
  let v1661 : BitVec 32 := Scalar.subi v462 c768_i32_1085
  let v1662 : BitVec 32 := Scalar.maxsi c0_i32_1086 v1661
  let v1663 : BitVec 32 := Scalar.minsi c256_i32_1087 v1662
  let v1805 : BitVec 32 := Scalar.subi v1663 v1660
  let c1_i32_1195 : BitVec 32 := 1#32
  let v1807 : BitVec 32 := Scalar.divsi v1805 c1_i32_1195
  let v1808 : BitVec 32 := Scalar.muli v1807 c1_i32_1195
  let v1809 : BitVec 32 := Scalar.addi v1660 v1808
  let c1_i32_1197 : BitVec 32 := 1#32
  let arg13 : BitVec 32 := Scf.iv v1809 c1_i32_1197 k3_t228
  let v1836 : Index := Scalar.indexCast arg13
  let c96 : Index := 96#32
  ![v1836.toNat, 96]
def k3_off914 (i : grid3.Coords) (v452 : BitVec 32) (v458 : BitVec 32) (k3_t228 : Fin (k3_t228_loop i v452 v458).trips) : Fin 2 → Nat :=
  let c256_i32_1084 : BitVec 32 := 256#32
  let c0_i32_1083 : BitVec 32 := 0#32
  let c1024_i32_196 : BitVec 32 := 1024#32
  let c0_i32_195 : BitVec 32 := 0#32
  let c65536_i32_194 : BitVec 32 := 65536#32
  let v453 : BitVec 32 := Scalar.subi v452 c65536_i32_194
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v454 : BitVec 32 := Scalar.subi v453 v3
  let v455 : BitVec 32 := Scalar.maxsi c0_i32_195 v454
  let v456 : BitVec 32 := Scalar.minsi c1024_i32_196 v455
  let c768_i32_1082 : BitVec 32 := 768#32
  let v1658 : BitVec 32 := Scalar.subi v456 c768_i32_1082
  let v1659 : BitVec 32 := Scalar.maxsi c0_i32_1083 v1658
  let v1660 : BitVec 32 := Scalar.minsi c256_i32_1084 v1659
  let c256_i32_1087 : BitVec 32 := 256#32
  let c0_i32_1086 : BitVec 32 := 0#32
  let c1024_i32_199 : BitVec 32 := 1024#32
  let c0_i32_198 : BitVec 32 := 0#32
  let c65536_i32_197 : BitVec 32 := 65536#32
  let v459 : BitVec 32 := Scalar.subi v458 c65536_i32_197
  let v460 : BitVec 32 := Scalar.subi v459 v3
  let v461 : BitVec 32 := Scalar.maxsi c0_i32_198 v460
  let v462 : BitVec 32 := Scalar.minsi c1024_i32_199 v461
  let c768_i32_1085 : BitVec 32 := 768#32
  let v1661 : BitVec 32 := Scalar.subi v462 c768_i32_1085
  let v1662 : BitVec 32 := Scalar.maxsi c0_i32_1086 v1661
  let v1663 : BitVec 32 := Scalar.minsi c256_i32_1087 v1662
  let v1805 : BitVec 32 := Scalar.subi v1663 v1660
  let c1_i32_1195 : BitVec 32 := 1#32
  let v1807 : BitVec 32 := Scalar.divsi v1805 c1_i32_1195
  let v1808 : BitVec 32 := Scalar.muli v1807 c1_i32_1195
  let v1809 : BitVec 32 := Scalar.addi v1660 v1808
  let c1_i32_1197 : BitVec 32 := 1#32
  let arg13 : BitVec 32 := Scf.iv v1809 c1_i32_1197 k3_t228
  let v1840 : Index := Scalar.indexCast arg13
  let c112 : Index := 112#32
  ![v1840.toNat, 112]

def k3_chk18_0 (i : grid3.Coords) (v452 : BitVec 32) (v458 : BitVec 32) : Prop :=
  (∀ (k3_h18 : k3_cond18 i v452 v458 = 1#1), (k3_t35_loop i v452 v458).OK) ∧
  (∀ k3_t35 : Fin (k3_t35_loop i v452 v458).trips, ∀ (k3_h18 : k3_cond18 i v452 v458 = 1#1), ∀ a, (k3_off138 i v452 v458 k3_t35) a + S1x16.size a ≤ S256x128.size a) ∧
  (∀ k3_t35 : Fin (k3_t35_loop i v452 v458).trips, ∀ (k3_h18 : k3_cond18 i v452 v458 = 1#1), ∀ a, (k3_off139 i v452 v458 k3_t35) a + S1x16.size a ≤ S256x128.size a) ∧
  (∀ k3_t35 : Fin (k3_t35_loop i v452 v458).trips, ∀ (k3_h18 : k3_cond18 i v452 v458 = 1#1), ∀ a, (k3_off140 i v452 v458 k3_t35) a + S1x16.size a ≤ S256x128.size a) ∧
  (∀ k3_t35 : Fin (k3_t35_loop i v452 v458).trips, ∀ (k3_h18 : k3_cond18 i v452 v458 = 1#1), ∀ a, (k3_off141 i v452 v458 k3_t35) a + S1x16.size a ≤ S256x128.size a) ∧
  (∀ (k3_h18 : k3_cond18 i v452 v458 = 1#1), (k3_t36_loop i v452 v458).OK) ∧
  (∀ k3_t36 : Fin (k3_t36_loop i v452 v458).trips, ∀ (k3_h18 : k3_cond18 i v452 v458 = 1#1), ∀ a, (k3_off142 i v452 v458 k3_t36) a + S1x16.size a ≤ S256x128.size a) ∧
  (∀ k3_t36 : Fin (k3_t36_loop i v452 v458).trips, ∀ (k3_h18 : k3_cond18 i v452 v458 = 1#1), ∀ a, (k3_off143 i v452 v458 k3_t36) a + S1x16.size a ≤ S256x128.size a) ∧
  (∀ k3_t36 : Fin (k3_t36_loop i v452 v458).trips, ∀ (k3_h18 : k3_cond18 i v452 v458 = 1#1), ∀ a, (k3_off144 i v452 v458 k3_t36) a + S1x16.size a ≤ S256x128.size a) ∧
  (∀ k3_t36 : Fin (k3_t36_loop i v452 v458).trips, ∀ (k3_h18 : k3_cond18 i v452 v458 = 1#1), ∀ a, (k3_off145 i v452 v458 k3_t36) a + S1x16.size a ≤ S256x128.size a) ∧
  (∀ (k3_h50 : k3_cond50 i v452 v458 = 1#1), (k3_t99_loop i v452 v458).OK) ∧
  (∀ k3_t99 : Fin (k3_t99_loop i v452 v458).trips, ∀ (k3_h50 : k3_cond50 i v452 v458 = 1#1), ∀ a, (k3_off395 i v452 v458 k3_t99) a + S1x16.size a ≤ S256x128.size a) ∧
  (∀ k3_t99 : Fin (k3_t99_loop i v452 v458).trips, ∀ (k3_h50 : k3_cond50 i v452 v458 = 1#1), ∀ a, (k3_off396 i v452 v458 k3_t99) a + S1x16.size a ≤ S256x128.size a) ∧
  (∀ k3_t99 : Fin (k3_t99_loop i v452 v458).trips, ∀ (k3_h50 : k3_cond50 i v452 v458 = 1#1), ∀ a, (k3_off397 i v452 v458 k3_t99) a + S1x16.size a ≤ S256x128.size a) ∧
  (∀ k3_t99 : Fin (k3_t99_loop i v452 v458).trips, ∀ (k3_h50 : k3_cond50 i v452 v458 = 1#1), ∀ a, (k3_off398 i v452 v458 k3_t99) a + S1x16.size a ≤ S256x128.size a) ∧
  (∀ (k3_h50 : k3_cond50 i v452 v458 = 1#1), (k3_t100_loop i v452 v458).OK) ∧
  (∀ k3_t100 : Fin (k3_t100_loop i v452 v458).trips, ∀ (k3_h50 : k3_cond50 i v452 v458 = 1#1), ∀ a, (k3_off399 i v452 v458 k3_t100) a + S1x16.size a ≤ S256x128.size a) ∧
  (∀ k3_t100 : Fin (k3_t100_loop i v452 v458).trips, ∀ (k3_h50 : k3_cond50 i v452 v458 = 1#1), ∀ a, (k3_off400 i v452 v458 k3_t100) a + S1x16.size a ≤ S256x128.size a) ∧
  (∀ k3_t100 : Fin (k3_t100_loop i v452 v458).trips, ∀ (k3_h50 : k3_cond50 i v452 v458 = 1#1), ∀ a, (k3_off401 i v452 v458 k3_t100) a + S1x16.size a ≤ S256x128.size a) ∧
  (∀ k3_t100 : Fin (k3_t100_loop i v452 v458).trips, ∀ (k3_h50 : k3_cond50 i v452 v458 = 1#1), ∀ a, (k3_off402 i v452 v458 k3_t100) a + S1x16.size a ≤ S256x128.size a) ∧
  (∀ (k3_h82 : k3_cond82 i v452 v458 = 1#1), (k3_t163_loop i v452 v458).OK) ∧
  (∀ k3_t163 : Fin (k3_t163_loop i v452 v458).trips, ∀ (k3_h82 : k3_cond82 i v452 v458 = 1#1), ∀ a, (k3_off651 i v452 v458 k3_t163) a + S1x16.size a ≤ S256x128.size a) ∧
  (∀ k3_t163 : Fin (k3_t163_loop i v452 v458).trips, ∀ (k3_h82 : k3_cond82 i v452 v458 = 1#1), ∀ a, (k3_off652 i v452 v458 k3_t163) a + S1x16.size a ≤ S256x128.size a) ∧
  (∀ k3_t163 : Fin (k3_t163_loop i v452 v458).trips, ∀ (k3_h82 : k3_cond82 i v452 v458 = 1#1), ∀ a, (k3_off653 i v452 v458 k3_t163) a + S1x16.size a ≤ S256x128.size a) ∧
  (∀ k3_t163 : Fin (k3_t163_loop i v452 v458).trips, ∀ (k3_h82 : k3_cond82 i v452 v458 = 1#1), ∀ a, (k3_off654 i v452 v458 k3_t163) a + S1x16.size a ≤ S256x128.size a) ∧
  (∀ (k3_h82 : k3_cond82 i v452 v458 = 1#1), (k3_t164_loop i v452 v458).OK) ∧
  (∀ k3_t164 : Fin (k3_t164_loop i v452 v458).trips, ∀ (k3_h82 : k3_cond82 i v452 v458 = 1#1), ∀ a, (k3_off655 i v452 v458 k3_t164) a + S1x16.size a ≤ S256x128.size a) ∧
  (∀ k3_t164 : Fin (k3_t164_loop i v452 v458).trips, ∀ (k3_h82 : k3_cond82 i v452 v458 = 1#1), ∀ a, (k3_off656 i v452 v458 k3_t164) a + S1x16.size a ≤ S256x128.size a) ∧
  (∀ k3_t164 : Fin (k3_t164_loop i v452 v458).trips, ∀ (k3_h82 : k3_cond82 i v452 v458 = 1#1), ∀ a, (k3_off657 i v452 v458 k3_t164) a + S1x16.size a ≤ S256x128.size a) ∧
  (∀ k3_t164 : Fin (k3_t164_loop i v452 v458).trips, ∀ (k3_h82 : k3_cond82 i v452 v458 = 1#1), ∀ a, (k3_off658 i v452 v458 k3_t164) a + S1x16.size a ≤ S256x128.size a) ∧
  (∀ (k3_h114 : k3_cond114 i v452 v458 = 1#1), (k3_t227_loop i v452 v458).OK) ∧
  (∀ k3_t227 : Fin (k3_t227_loop i v452 v458).trips, ∀ (k3_h114 : k3_cond114 i v452 v458 = 1#1), ∀ a, (k3_off907 i v452 v458 k3_t227) a + S1x16.size a ≤ S256x128.size a)
def k3_chk18_1 (i : grid3.Coords) (v452 : BitVec 32) (v458 : BitVec 32) : Prop :=
  (∀ k3_t227 : Fin (k3_t227_loop i v452 v458).trips, ∀ (k3_h114 : k3_cond114 i v452 v458 = 1#1), ∀ a, (k3_off908 i v452 v458 k3_t227) a + S1x16.size a ≤ S256x128.size a) ∧
  (∀ k3_t227 : Fin (k3_t227_loop i v452 v458).trips, ∀ (k3_h114 : k3_cond114 i v452 v458 = 1#1), ∀ a, (k3_off909 i v452 v458 k3_t227) a + S1x16.size a ≤ S256x128.size a) ∧
  (∀ k3_t227 : Fin (k3_t227_loop i v452 v458).trips, ∀ (k3_h114 : k3_cond114 i v452 v458 = 1#1), ∀ a, (k3_off910 i v452 v458 k3_t227) a + S1x16.size a ≤ S256x128.size a) ∧
  (∀ (k3_h114 : k3_cond114 i v452 v458 = 1#1), (k3_t228_loop i v452 v458).OK) ∧
  (∀ k3_t228 : Fin (k3_t228_loop i v452 v458).trips, ∀ (k3_h114 : k3_cond114 i v452 v458 = 1#1), ∀ a, (k3_off911 i v452 v458 k3_t228) a + S1x16.size a ≤ S256x128.size a) ∧
  (∀ k3_t228 : Fin (k3_t228_loop i v452 v458).trips, ∀ (k3_h114 : k3_cond114 i v452 v458 = 1#1), ∀ a, (k3_off912 i v452 v458 k3_t228) a + S1x16.size a ≤ S256x128.size a) ∧
  (∀ k3_t228 : Fin (k3_t228_loop i v452 v458).trips, ∀ (k3_h114 : k3_cond114 i v452 v458 = 1#1), ∀ a, (k3_off913 i v452 v458 k3_t228) a + S1x16.size a ≤ S256x128.size a) ∧
  (∀ k3_t228 : Fin (k3_t228_loop i v452 v458).trips, ∀ (k3_h114 : k3_cond114 i v452 v458 = 1#1), ∀ a, (k3_off914 i v452 v458 k3_t228) a + S1x16.size a ≤ S256x128.size a)
def k3_chk18 (i : grid3.Coords) (v452 : BitVec 32) (v458 : BitVec 32) : Prop :=
  k3_chk18_0 i v452 v458 ∧
  k3_chk18_1 i v452 v458
theorem k3_t35_ok : ∀ (i : grid3.Coords) (v452 : BitVec 32) (v458 : BitVec 32) (k3_hw18 : k3_chk18 i v452 v458), ∀ (k3_h18 : k3_cond18 i v452 v458 = 1#1), (k3_t35_loop i v452 v458).OK := fun i v452 v458 k3_hw18 k3_h18 => k3_hw18.1.1 k3_h18
theorem k3_off138_inb : ∀ (i : grid3.Coords) (v452 : BitVec 32) (v458 : BitVec 32) (k3_hw18 : k3_chk18 i v452 v458) (k3_t35 : Fin (k3_t35_loop i v452 v458).trips), ∀ (k3_h18 : k3_cond18 i v452 v458 = 1#1), ∀ a, (k3_off138 i v452 v458 k3_t35) a + S1x16.size a ≤ S256x128.size a := fun i v452 v458 k3_hw18 k3_t35 k3_h18 => k3_hw18.1.2.1 k3_t35 k3_h18
theorem k3_off139_inb : ∀ (i : grid3.Coords) (v452 : BitVec 32) (v458 : BitVec 32) (k3_hw18 : k3_chk18 i v452 v458) (k3_t35 : Fin (k3_t35_loop i v452 v458).trips), ∀ (k3_h18 : k3_cond18 i v452 v458 = 1#1), ∀ a, (k3_off139 i v452 v458 k3_t35) a + S1x16.size a ≤ S256x128.size a := fun i v452 v458 k3_hw18 k3_t35 k3_h18 => k3_hw18.1.2.2.1 k3_t35 k3_h18
theorem k3_off140_inb : ∀ (i : grid3.Coords) (v452 : BitVec 32) (v458 : BitVec 32) (k3_hw18 : k3_chk18 i v452 v458) (k3_t35 : Fin (k3_t35_loop i v452 v458).trips), ∀ (k3_h18 : k3_cond18 i v452 v458 = 1#1), ∀ a, (k3_off140 i v452 v458 k3_t35) a + S1x16.size a ≤ S256x128.size a := fun i v452 v458 k3_hw18 k3_t35 k3_h18 => k3_hw18.1.2.2.2.1 k3_t35 k3_h18
theorem k3_off141_inb : ∀ (i : grid3.Coords) (v452 : BitVec 32) (v458 : BitVec 32) (k3_hw18 : k3_chk18 i v452 v458) (k3_t35 : Fin (k3_t35_loop i v452 v458).trips), ∀ (k3_h18 : k3_cond18 i v452 v458 = 1#1), ∀ a, (k3_off141 i v452 v458 k3_t35) a + S1x16.size a ≤ S256x128.size a := fun i v452 v458 k3_hw18 k3_t35 k3_h18 => k3_hw18.1.2.2.2.2.1 k3_t35 k3_h18
theorem k3_t36_ok : ∀ (i : grid3.Coords) (v452 : BitVec 32) (v458 : BitVec 32) (k3_hw18 : k3_chk18 i v452 v458), ∀ (k3_h18 : k3_cond18 i v452 v458 = 1#1), (k3_t36_loop i v452 v458).OK := fun i v452 v458 k3_hw18 k3_h18 => k3_hw18.1.2.2.2.2.2.1 k3_h18
theorem k3_off142_inb : ∀ (i : grid3.Coords) (v452 : BitVec 32) (v458 : BitVec 32) (k3_hw18 : k3_chk18 i v452 v458) (k3_t36 : Fin (k3_t36_loop i v452 v458).trips), ∀ (k3_h18 : k3_cond18 i v452 v458 = 1#1), ∀ a, (k3_off142 i v452 v458 k3_t36) a + S1x16.size a ≤ S256x128.size a := fun i v452 v458 k3_hw18 k3_t36 k3_h18 => k3_hw18.1.2.2.2.2.2.2.1 k3_t36 k3_h18
theorem k3_off143_inb : ∀ (i : grid3.Coords) (v452 : BitVec 32) (v458 : BitVec 32) (k3_hw18 : k3_chk18 i v452 v458) (k3_t36 : Fin (k3_t36_loop i v452 v458).trips), ∀ (k3_h18 : k3_cond18 i v452 v458 = 1#1), ∀ a, (k3_off143 i v452 v458 k3_t36) a + S1x16.size a ≤ S256x128.size a := fun i v452 v458 k3_hw18 k3_t36 k3_h18 => k3_hw18.1.2.2.2.2.2.2.2.1 k3_t36 k3_h18
theorem k3_off144_inb : ∀ (i : grid3.Coords) (v452 : BitVec 32) (v458 : BitVec 32) (k3_hw18 : k3_chk18 i v452 v458) (k3_t36 : Fin (k3_t36_loop i v452 v458).trips), ∀ (k3_h18 : k3_cond18 i v452 v458 = 1#1), ∀ a, (k3_off144 i v452 v458 k3_t36) a + S1x16.size a ≤ S256x128.size a := fun i v452 v458 k3_hw18 k3_t36 k3_h18 => k3_hw18.1.2.2.2.2.2.2.2.2.1 k3_t36 k3_h18
theorem k3_off145_inb : ∀ (i : grid3.Coords) (v452 : BitVec 32) (v458 : BitVec 32) (k3_hw18 : k3_chk18 i v452 v458) (k3_t36 : Fin (k3_t36_loop i v452 v458).trips), ∀ (k3_h18 : k3_cond18 i v452 v458 = 1#1), ∀ a, (k3_off145 i v452 v458 k3_t36) a + S1x16.size a ≤ S256x128.size a := fun i v452 v458 k3_hw18 k3_t36 k3_h18 => k3_hw18.1.2.2.2.2.2.2.2.2.2.1 k3_t36 k3_h18
theorem k3_t99_ok : ∀ (i : grid3.Coords) (v452 : BitVec 32) (v458 : BitVec 32) (k3_hw18 : k3_chk18 i v452 v458), ∀ (k3_h50 : k3_cond50 i v452 v458 = 1#1), (k3_t99_loop i v452 v458).OK := fun i v452 v458 k3_hw18 k3_h50 => k3_hw18.1.2.2.2.2.2.2.2.2.2.2.1 k3_h50
theorem k3_off395_inb : ∀ (i : grid3.Coords) (v452 : BitVec 32) (v458 : BitVec 32) (k3_hw18 : k3_chk18 i v452 v458) (k3_t99 : Fin (k3_t99_loop i v452 v458).trips), ∀ (k3_h50 : k3_cond50 i v452 v458 = 1#1), ∀ a, (k3_off395 i v452 v458 k3_t99) a + S1x16.size a ≤ S256x128.size a := fun i v452 v458 k3_hw18 k3_t99 k3_h50 => k3_hw18.1.2.2.2.2.2.2.2.2.2.2.2.1 k3_t99 k3_h50
theorem k3_off396_inb : ∀ (i : grid3.Coords) (v452 : BitVec 32) (v458 : BitVec 32) (k3_hw18 : k3_chk18 i v452 v458) (k3_t99 : Fin (k3_t99_loop i v452 v458).trips), ∀ (k3_h50 : k3_cond50 i v452 v458 = 1#1), ∀ a, (k3_off396 i v452 v458 k3_t99) a + S1x16.size a ≤ S256x128.size a := fun i v452 v458 k3_hw18 k3_t99 k3_h50 => k3_hw18.1.2.2.2.2.2.2.2.2.2.2.2.2.1 k3_t99 k3_h50
theorem k3_off397_inb : ∀ (i : grid3.Coords) (v452 : BitVec 32) (v458 : BitVec 32) (k3_hw18 : k3_chk18 i v452 v458) (k3_t99 : Fin (k3_t99_loop i v452 v458).trips), ∀ (k3_h50 : k3_cond50 i v452 v458 = 1#1), ∀ a, (k3_off397 i v452 v458 k3_t99) a + S1x16.size a ≤ S256x128.size a := fun i v452 v458 k3_hw18 k3_t99 k3_h50 => k3_hw18.1.2.2.2.2.2.2.2.2.2.2.2.2.2.1 k3_t99 k3_h50
theorem k3_off398_inb : ∀ (i : grid3.Coords) (v452 : BitVec 32) (v458 : BitVec 32) (k3_hw18 : k3_chk18 i v452 v458) (k3_t99 : Fin (k3_t99_loop i v452 v458).trips), ∀ (k3_h50 : k3_cond50 i v452 v458 = 1#1), ∀ a, (k3_off398 i v452 v458 k3_t99) a + S1x16.size a ≤ S256x128.size a := fun i v452 v458 k3_hw18 k3_t99 k3_h50 => k3_hw18.1.2.2.2.2.2.2.2.2.2.2.2.2.2.2.1 k3_t99 k3_h50
theorem k3_t100_ok : ∀ (i : grid3.Coords) (v452 : BitVec 32) (v458 : BitVec 32) (k3_hw18 : k3_chk18 i v452 v458), ∀ (k3_h50 : k3_cond50 i v452 v458 = 1#1), (k3_t100_loop i v452 v458).OK := fun i v452 v458 k3_hw18 k3_h50 => k3_hw18.1.2.2.2.2.2.2.2.2.2.2.2.2.2.2.2.1 k3_h50
theorem k3_off399_inb : ∀ (i : grid3.Coords) (v452 : BitVec 32) (v458 : BitVec 32) (k3_hw18 : k3_chk18 i v452 v458) (k3_t100 : Fin (k3_t100_loop i v452 v458).trips), ∀ (k3_h50 : k3_cond50 i v452 v458 = 1#1), ∀ a, (k3_off399 i v452 v458 k3_t100) a + S1x16.size a ≤ S256x128.size a := fun i v452 v458 k3_hw18 k3_t100 k3_h50 => k3_hw18.1.2.2.2.2.2.2.2.2.2.2.2.2.2.2.2.2.1 k3_t100 k3_h50
theorem k3_off400_inb : ∀ (i : grid3.Coords) (v452 : BitVec 32) (v458 : BitVec 32) (k3_hw18 : k3_chk18 i v452 v458) (k3_t100 : Fin (k3_t100_loop i v452 v458).trips), ∀ (k3_h50 : k3_cond50 i v452 v458 = 1#1), ∀ a, (k3_off400 i v452 v458 k3_t100) a + S1x16.size a ≤ S256x128.size a := fun i v452 v458 k3_hw18 k3_t100 k3_h50 => k3_hw18.1.2.2.2.2.2.2.2.2.2.2.2.2.2.2.2.2.2.1 k3_t100 k3_h50
theorem k3_off401_inb : ∀ (i : grid3.Coords) (v452 : BitVec 32) (v458 : BitVec 32) (k3_hw18 : k3_chk18 i v452 v458) (k3_t100 : Fin (k3_t100_loop i v452 v458).trips), ∀ (k3_h50 : k3_cond50 i v452 v458 = 1#1), ∀ a, (k3_off401 i v452 v458 k3_t100) a + S1x16.size a ≤ S256x128.size a := fun i v452 v458 k3_hw18 k3_t100 k3_h50 => k3_hw18.1.2.2.2.2.2.2.2.2.2.2.2.2.2.2.2.2.2.2.1 k3_t100 k3_h50
theorem k3_off402_inb : ∀ (i : grid3.Coords) (v452 : BitVec 32) (v458 : BitVec 32) (k3_hw18 : k3_chk18 i v452 v458) (k3_t100 : Fin (k3_t100_loop i v452 v458).trips), ∀ (k3_h50 : k3_cond50 i v452 v458 = 1#1), ∀ a, (k3_off402 i v452 v458 k3_t100) a + S1x16.size a ≤ S256x128.size a := fun i v452 v458 k3_hw18 k3_t100 k3_h50 => k3_hw18.1.2.2.2.2.2.2.2.2.2.2.2.2.2.2.2.2.2.2.2.1 k3_t100 k3_h50
theorem k3_t163_ok : ∀ (i : grid3.Coords) (v452 : BitVec 32) (v458 : BitVec 32) (k3_hw18 : k3_chk18 i v452 v458), ∀ (k3_h82 : k3_cond82 i v452 v458 = 1#1), (k3_t163_loop i v452 v458).OK := fun i v452 v458 k3_hw18 k3_h82 => k3_hw18.1.2.2.2.2.2.2.2.2.2.2.2.2.2.2.2.2.2.2.2.2.1 k3_h82
theorem k3_off651_inb : ∀ (i : grid3.Coords) (v452 : BitVec 32) (v458 : BitVec 32) (k3_hw18 : k3_chk18 i v452 v458) (k3_t163 : Fin (k3_t163_loop i v452 v458).trips), ∀ (k3_h82 : k3_cond82 i v452 v458 = 1#1), ∀ a, (k3_off651 i v452 v458 k3_t163) a + S1x16.size a ≤ S256x128.size a := fun i v452 v458 k3_hw18 k3_t163 k3_h82 => k3_hw18.1.2.2.2.2.2.2.2.2.2.2.2.2.2.2.2.2.2.2.2.2.2.1 k3_t163 k3_h82
theorem k3_off652_inb : ∀ (i : grid3.Coords) (v452 : BitVec 32) (v458 : BitVec 32) (k3_hw18 : k3_chk18 i v452 v458) (k3_t163 : Fin (k3_t163_loop i v452 v458).trips), ∀ (k3_h82 : k3_cond82 i v452 v458 = 1#1), ∀ a, (k3_off652 i v452 v458 k3_t163) a + S1x16.size a ≤ S256x128.size a := fun i v452 v458 k3_hw18 k3_t163 k3_h82 => k3_hw18.1.2.2.2.2.2.2.2.2.2.2.2.2.2.2.2.2.2.2.2.2.2.2.1 k3_t163 k3_h82
theorem k3_off653_inb : ∀ (i : grid3.Coords) (v452 : BitVec 32) (v458 : BitVec 32) (k3_hw18 : k3_chk18 i v452 v458) (k3_t163 : Fin (k3_t163_loop i v452 v458).trips), ∀ (k3_h82 : k3_cond82 i v452 v458 = 1#1), ∀ a, (k3_off653 i v452 v458 k3_t163) a + S1x16.size a ≤ S256x128.size a := fun i v452 v458 k3_hw18 k3_t163 k3_h82 => k3_hw18.1.2.2.2.2.2.2.2.2.2.2.2.2.2.2.2.2.2.2.2.2.2.2.2.1 k3_t163 k3_h82
theorem k3_off654_inb : ∀ (i : grid3.Coords) (v452 : BitVec 32) (v458 : BitVec 32) (k3_hw18 : k3_chk18 i v452 v458) (k3_t163 : Fin (k3_t163_loop i v452 v458).trips), ∀ (k3_h82 : k3_cond82 i v452 v458 = 1#1), ∀ a, (k3_off654 i v452 v458 k3_t163) a + S1x16.size a ≤ S256x128.size a := fun i v452 v458 k3_hw18 k3_t163 k3_h82 => k3_hw18.1.2.2.2.2.2.2.2.2.2.2.2.2.2.2.2.2.2.2.2.2.2.2.2.2.1 k3_t163 k3_h82
theorem k3_t164_ok : ∀ (i : grid3.Coords) (v452 : BitVec 32) (v458 : BitVec 32) (k3_hw18 : k3_chk18 i v452 v458), ∀ (k3_h82 : k3_cond82 i v452 v458 = 1#1), (k3_t164_loop i v452 v458).OK := fun i v452 v458 k3_hw18 k3_h82 => k3_hw18.1.2.2.2.2.2.2.2.2.2.2.2.2.2.2.2.2.2.2.2.2.2.2.2.2.2.1 k3_h82
theorem k3_off655_inb : ∀ (i : grid3.Coords) (v452 : BitVec 32) (v458 : BitVec 32) (k3_hw18 : k3_chk18 i v452 v458) (k3_t164 : Fin (k3_t164_loop i v452 v458).trips), ∀ (k3_h82 : k3_cond82 i v452 v458 = 1#1), ∀ a, (k3_off655 i v452 v458 k3_t164) a + S1x16.size a ≤ S256x128.size a := fun i v452 v458 k3_hw18 k3_t164 k3_h82 => k3_hw18.1.2.2.2.2.2.2.2.2.2.2.2.2.2.2.2.2.2.2.2.2.2.2.2.2.2.2.1 k3_t164 k3_h82
theorem k3_off656_inb : ∀ (i : grid3.Coords) (v452 : BitVec 32) (v458 : BitVec 32) (k3_hw18 : k3_chk18 i v452 v458) (k3_t164 : Fin (k3_t164_loop i v452 v458).trips), ∀ (k3_h82 : k3_cond82 i v452 v458 = 1#1), ∀ a, (k3_off656 i v452 v458 k3_t164) a + S1x16.size a ≤ S256x128.size a := fun i v452 v458 k3_hw18 k3_t164 k3_h82 => k3_hw18.1.2.2.2.2.2.2.2.2.2.2.2.2.2.2.2.2.2.2.2.2.2.2.2.2.2.2.2.1 k3_t164 k3_h82
theorem k3_off657_inb : ∀ (i : grid3.Coords) (v452 : BitVec 32) (v458 : BitVec 32) (k3_hw18 : k3_chk18 i v452 v458) (k3_t164 : Fin (k3_t164_loop i v452 v458).trips), ∀ (k3_h82 : k3_cond82 i v452 v458 = 1#1), ∀ a, (k3_off657 i v452 v458 k3_t164) a + S1x16.size a ≤ S256x128.size a := fun i v452 v458 k3_hw18 k3_t164 k3_h82 => k3_hw18.1.2.2.2.2.2.2.2.2.2.2.2.2.2.2.2.2.2.2.2.2.2.2.2.2.2.2.2.2.1 k3_t164 k3_h82
theorem k3_off658_inb : ∀ (i : grid3.Coords) (v452 : BitVec 32) (v458 : BitVec 32) (k3_hw18 : k3_chk18 i v452 v458) (k3_t164 : Fin (k3_t164_loop i v452 v458).trips), ∀ (k3_h82 : k3_cond82 i v452 v458 = 1#1), ∀ a, (k3_off658 i v452 v458 k3_t164) a + S1x16.size a ≤ S256x128.size a := fun i v452 v458 k3_hw18 k3_t164 k3_h82 => k3_hw18.1.2.2.2.2.2.2.2.2.2.2.2.2.2.2.2.2.2.2.2.2.2.2.2.2.2.2.2.2.2.1 k3_t164 k3_h82
theorem k3_t227_ok : ∀ (i : grid3.Coords) (v452 : BitVec 32) (v458 : BitVec 32) (k3_hw18 : k3_chk18 i v452 v458), ∀ (k3_h114 : k3_cond114 i v452 v458 = 1#1), (k3_t227_loop i v452 v458).OK := fun i v452 v458 k3_hw18 k3_h114 => k3_hw18.1.2.2.2.2.2.2.2.2.2.2.2.2.2.2.2.2.2.2.2.2.2.2.2.2.2.2.2.2.2.2.1 k3_h114
theorem k3_off907_inb : ∀ (i : grid3.Coords) (v452 : BitVec 32) (v458 : BitVec 32) (k3_hw18 : k3_chk18 i v452 v458) (k3_t227 : Fin (k3_t227_loop i v452 v458).trips), ∀ (k3_h114 : k3_cond114 i v452 v458 = 1#1), ∀ a, (k3_off907 i v452 v458 k3_t227) a + S1x16.size a ≤ S256x128.size a := fun i v452 v458 k3_hw18 k3_t227 k3_h114 => k3_hw18.1.2.2.2.2.2.2.2.2.2.2.2.2.2.2.2.2.2.2.2.2.2.2.2.2.2.2.2.2.2.2.2 k3_t227 k3_h114
theorem k3_off908_inb : ∀ (i : grid3.Coords) (v452 : BitVec 32) (v458 : BitVec 32) (k3_hw18 : k3_chk18 i v452 v458) (k3_t227 : Fin (k3_t227_loop i v452 v458).trips), ∀ (k3_h114 : k3_cond114 i v452 v458 = 1#1), ∀ a, (k3_off908 i v452 v458 k3_t227) a + S1x16.size a ≤ S256x128.size a := fun i v452 v458 k3_hw18 k3_t227 k3_h114 => k3_hw18.2.1 k3_t227 k3_h114
theorem k3_off909_inb : ∀ (i : grid3.Coords) (v452 : BitVec 32) (v458 : BitVec 32) (k3_hw18 : k3_chk18 i v452 v458) (k3_t227 : Fin (k3_t227_loop i v452 v458).trips), ∀ (k3_h114 : k3_cond114 i v452 v458 = 1#1), ∀ a, (k3_off909 i v452 v458 k3_t227) a + S1x16.size a ≤ S256x128.size a := fun i v452 v458 k3_hw18 k3_t227 k3_h114 => k3_hw18.2.2.1 k3_t227 k3_h114
theorem k3_off910_inb : ∀ (i : grid3.Coords) (v452 : BitVec 32) (v458 : BitVec 32) (k3_hw18 : k3_chk18 i v452 v458) (k3_t227 : Fin (k3_t227_loop i v452 v458).trips), ∀ (k3_h114 : k3_cond114 i v452 v458 = 1#1), ∀ a, (k3_off910 i v452 v458 k3_t227) a + S1x16.size a ≤ S256x128.size a := fun i v452 v458 k3_hw18 k3_t227 k3_h114 => k3_hw18.2.2.2.1 k3_t227 k3_h114
theorem k3_t228_ok : ∀ (i : grid3.Coords) (v452 : BitVec 32) (v458 : BitVec 32) (k3_hw18 : k3_chk18 i v452 v458), ∀ (k3_h114 : k3_cond114 i v452 v458 = 1#1), (k3_t228_loop i v452 v458).OK := fun i v452 v458 k3_hw18 k3_h114 => k3_hw18.2.2.2.2.1 k3_h114
theorem k3_off911_inb : ∀ (i : grid3.Coords) (v452 : BitVec 32) (v458 : BitVec 32) (k3_hw18 : k3_chk18 i v452 v458) (k3_t228 : Fin (k3_t228_loop i v452 v458).trips), ∀ (k3_h114 : k3_cond114 i v452 v458 = 1#1), ∀ a, (k3_off911 i v452 v458 k3_t228) a + S1x16.size a ≤ S256x128.size a := fun i v452 v458 k3_hw18 k3_t228 k3_h114 => k3_hw18.2.2.2.2.2.1 k3_t228 k3_h114
theorem k3_off912_inb : ∀ (i : grid3.Coords) (v452 : BitVec 32) (v458 : BitVec 32) (k3_hw18 : k3_chk18 i v452 v458) (k3_t228 : Fin (k3_t228_loop i v452 v458).trips), ∀ (k3_h114 : k3_cond114 i v452 v458 = 1#1), ∀ a, (k3_off912 i v452 v458 k3_t228) a + S1x16.size a ≤ S256x128.size a := fun i v452 v458 k3_hw18 k3_t228 k3_h114 => k3_hw18.2.2.2.2.2.2.1 k3_t228 k3_h114
theorem k3_off913_inb : ∀ (i : grid3.Coords) (v452 : BitVec 32) (v458 : BitVec 32) (k3_hw18 : k3_chk18 i v452 v458) (k3_t228 : Fin (k3_t228_loop i v452 v458).trips), ∀ (k3_h114 : k3_cond114 i v452 v458 = 1#1), ∀ a, (k3_off913 i v452 v458 k3_t228) a + S1x16.size a ≤ S256x128.size a := fun i v452 v458 k3_hw18 k3_t228 k3_h114 => k3_hw18.2.2.2.2.2.2.2.1 k3_t228 k3_h114
theorem k3_off914_inb : ∀ (i : grid3.Coords) (v452 : BitVec 32) (v458 : BitVec 32) (k3_hw18 : k3_chk18 i v452 v458) (k3_t228 : Fin (k3_t228_loop i v452 v458).trips), ∀ (k3_h114 : k3_cond114 i v452 v458 = 1#1), ∀ a, (k3_off914 i v452 v458 k3_t228) a + S1x16.size a ≤ S256x128.size a := fun i v452 v458 k3_hw18 k3_t228 k3_h114 => k3_hw18.2.2.2.2.2.2.2.2 k3_t228 k3_h114

@[reducible] def k3_t229_loop (i : grid3.Coords) (v464 : BitVec 32) (v469 : BitVec 32) : Scf.Loop 32 :=
  let c256_i32_1091 : BitVec 32 := 256#32
  let c0_i32_1090 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let c256_i32_1094 : BitVec 32 := 256#32
  let c0_i32_1093 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c768_i32_1092 : BitVec 32 := 768#32
  let v1670 : BitVec 32 := Scalar.subi v472 c768_i32_1092
  let v1671 : BitVec 32 := Scalar.maxsi c0_i32_1093 v1670
  let v1672 : BitVec 32 := Scalar.minsi c256_i32_1094 v1671
  let v1805 : BitVec 32 := Scalar.subi v1672 v1669
  let c1_i32_1195 : BitVec 32 := 1#32
  let v1807 : BitVec 32 := Scalar.divsi v1805 c1_i32_1195
  let v1808 : BitVec 32 := Scalar.muli v1807 c1_i32_1195
  let v1809 : BitVec 32 := Scalar.addi v1669 v1808
  let c1_i32_1196 : BitVec 32 := 1#32
  ⟨v1669, v1809, c1_i32_1196⟩
def k3_cond115 (i : grid3.Coords) (v464 : BitVec 32) (v469 : BitVec 32) : BitVec 1 :=
  let c256_i32_1094 : BitVec 32 := 256#32
  let c0_i32_1093 : BitVec 32 := 0#32
  let c1024_i32_203 : BitVec 32 := 1024#32
  let c0_i32_202 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v470 : BitVec 32 := Scalar.subi v469 v3
  let v471 : BitVec 32 := Scalar.maxsi c0_i32_202 v470
  let v472 : BitVec 32 := Scalar.minsi c1024_i32_203 v471
  let c768_i32_1092 : BitVec 32 := 768#32
  let v1670 : BitVec 32 := Scalar.subi v472 c768_i32_1092
  let v1671 : BitVec 32 := Scalar.maxsi c0_i32_1093 v1670
  let v1672 : BitVec 32 := Scalar.minsi c256_i32_1094 v1671
  let c256_i32_1091 : BitVec 32 := 256#32
  let c0_i32_1090 : BitVec 32 := 0#32
  let c1024_i32_201 : BitVec 32 := 1024#32
  let c0_i32_200 : BitVec 32 := 0#32
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let v1673 : BitVec 1 := Scalar.cmpi .sgt v1672 v1669
  let v1674 : BitVec 32 := Scalar.extui v1673
  let c0_i32_1095 : BitVec 32 := 0#32
  let v1675 : BitVec 1 := Scalar.cmpi .ne v1674 c0_i32_1095
  v1675

def k3_off915 (i : grid3.Coords) (v464 : BitVec 32) (v469 : BitVec 32) (k3_t229 : Fin (k3_t229_loop i v464 v469).trips) : Fin 2 → Nat :=
  let c256_i32_1091 : BitVec 32 := 256#32
  let c0_i32_1090 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let c1_i32_1196 : BitVec 32 := 1#32
  let arg13 : BitVec 32 := Scf.iv v1669 c1_i32_1196 k3_t229
  let v1828 : Index := Scalar.indexCast arg13
  let c0_1206 : Index := 0#32
  ![v1828.toNat, 0]
def k3_off916 (i : grid3.Coords) (v464 : BitVec 32) (v469 : BitVec 32) (k3_t229 : Fin (k3_t229_loop i v464 v469).trips) : Fin 2 → Nat :=
  let c256_i32_1091 : BitVec 32 := 256#32
  let c0_i32_1090 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let c1_i32_1196 : BitVec 32 := 1#32
  let arg13 : BitVec 32 := Scf.iv v1669 c1_i32_1196 k3_t229
  let v1832 : Index := Scalar.indexCast arg13
  let c16_1207 : Index := 16#32
  ![v1832.toNat, 16]
def k3_off917 (i : grid3.Coords) (v464 : BitVec 32) (v469 : BitVec 32) (k3_t229 : Fin (k3_t229_loop i v464 v469).trips) : Fin 2 → Nat :=
  let c256_i32_1091 : BitVec 32 := 256#32
  let c0_i32_1090 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let c1_i32_1196 : BitVec 32 := 1#32
  let arg13 : BitVec 32 := Scf.iv v1669 c1_i32_1196 k3_t229
  let v1836 : Index := Scalar.indexCast arg13
  let c32_1208 : Index := 32#32
  ![v1836.toNat, 32]
def k3_off918 (i : grid3.Coords) (v464 : BitVec 32) (v469 : BitVec 32) (k3_t229 : Fin (k3_t229_loop i v464 v469).trips) : Fin 2 → Nat :=
  let c256_i32_1091 : BitVec 32 := 256#32
  let c0_i32_1090 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let c1_i32_1196 : BitVec 32 := 1#32
  let arg13 : BitVec 32 := Scf.iv v1669 c1_i32_1196 k3_t229
  let v1840 : Index := Scalar.indexCast arg13
  let c48_1209 : Index := 48#32
  ![v1840.toNat, 48]
@[reducible] def k3_t230_loop (i : grid3.Coords) (v464 : BitVec 32) (v469 : BitVec 32) : Scf.Loop 32 :=
  let c256_i32_1091 : BitVec 32 := 256#32
  let c0_i32_1090 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let c256_i32_1094 : BitVec 32 := 256#32
  let c0_i32_1093 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c768_i32_1092 : BitVec 32 := 768#32
  let v1670 : BitVec 32 := Scalar.subi v472 c768_i32_1092
  let v1671 : BitVec 32 := Scalar.maxsi c0_i32_1093 v1670
  let v1672 : BitVec 32 := Scalar.minsi c256_i32_1094 v1671
  let v1805 : BitVec 32 := Scalar.subi v1672 v1669
  let c1_i32_1195 : BitVec 32 := 1#32
  let v1807 : BitVec 32 := Scalar.divsi v1805 c1_i32_1195
  let v1808 : BitVec 32 := Scalar.muli v1807 c1_i32_1195
  let v1809 : BitVec 32 := Scalar.addi v1669 v1808
  let v1806 : BitVec 32 := Scalar.addi v1669 v1805
  let c1_i32_1197 : BitVec 32 := 1#32
  ⟨v1809, v1806, c1_i32_1197⟩
def k3_off919 (i : grid3.Coords) (v464 : BitVec 32) (v469 : BitVec 32) (k3_t230 : Fin (k3_t230_loop i v464 v469).trips) : Fin 2 → Nat :=
  let c256_i32_1091 : BitVec 32 := 256#32
  let c0_i32_1090 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let c256_i32_1094 : BitVec 32 := 256#32
  let c0_i32_1093 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c768_i32_1092 : BitVec 32 := 768#32
  let v1670 : BitVec 32 := Scalar.subi v472 c768_i32_1092
  let v1671 : BitVec 32 := Scalar.maxsi c0_i32_1093 v1670
  let v1672 : BitVec 32 := Scalar.minsi c256_i32_1094 v1671
  let v1805 : BitVec 32 := Scalar.subi v1672 v1669
  let c1_i32_1195 : BitVec 32 := 1#32
  let v1807 : BitVec 32 := Scalar.divsi v1805 c1_i32_1195
  let v1808 : BitVec 32 := Scalar.muli v1807 c1_i32_1195
  let v1809 : BitVec 32 := Scalar.addi v1669 v1808
  let c1_i32_1197 : BitVec 32 := 1#32
  let arg13 : BitVec 32 := Scf.iv v1809 c1_i32_1197 k3_t230
  let v1828 : Index := Scalar.indexCast arg13
  let c0_1206 : Index := 0#32
  ![v1828.toNat, 0]
def k3_off920 (i : grid3.Coords) (v464 : BitVec 32) (v469 : BitVec 32) (k3_t230 : Fin (k3_t230_loop i v464 v469).trips) : Fin 2 → Nat :=
  let c256_i32_1091 : BitVec 32 := 256#32
  let c0_i32_1090 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let c256_i32_1094 : BitVec 32 := 256#32
  let c0_i32_1093 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c768_i32_1092 : BitVec 32 := 768#32
  let v1670 : BitVec 32 := Scalar.subi v472 c768_i32_1092
  let v1671 : BitVec 32 := Scalar.maxsi c0_i32_1093 v1670
  let v1672 : BitVec 32 := Scalar.minsi c256_i32_1094 v1671
  let v1805 : BitVec 32 := Scalar.subi v1672 v1669
  let c1_i32_1195 : BitVec 32 := 1#32
  let v1807 : BitVec 32 := Scalar.divsi v1805 c1_i32_1195
  let v1808 : BitVec 32 := Scalar.muli v1807 c1_i32_1195
  let v1809 : BitVec 32 := Scalar.addi v1669 v1808
  let c1_i32_1197 : BitVec 32 := 1#32
  let arg13 : BitVec 32 := Scf.iv v1809 c1_i32_1197 k3_t230
  let v1832 : Index := Scalar.indexCast arg13
  let c16_1207 : Index := 16#32
  ![v1832.toNat, 16]
def k3_off921 (i : grid3.Coords) (v464 : BitVec 32) (v469 : BitVec 32) (k3_t230 : Fin (k3_t230_loop i v464 v469).trips) : Fin 2 → Nat :=
  let c256_i32_1091 : BitVec 32 := 256#32
  let c0_i32_1090 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let c256_i32_1094 : BitVec 32 := 256#32
  let c0_i32_1093 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c768_i32_1092 : BitVec 32 := 768#32
  let v1670 : BitVec 32 := Scalar.subi v472 c768_i32_1092
  let v1671 : BitVec 32 := Scalar.maxsi c0_i32_1093 v1670
  let v1672 : BitVec 32 := Scalar.minsi c256_i32_1094 v1671
  let v1805 : BitVec 32 := Scalar.subi v1672 v1669
  let c1_i32_1195 : BitVec 32 := 1#32
  let v1807 : BitVec 32 := Scalar.divsi v1805 c1_i32_1195
  let v1808 : BitVec 32 := Scalar.muli v1807 c1_i32_1195
  let v1809 : BitVec 32 := Scalar.addi v1669 v1808
  let c1_i32_1197 : BitVec 32 := 1#32
  let arg13 : BitVec 32 := Scf.iv v1809 c1_i32_1197 k3_t230
  let v1836 : Index := Scalar.indexCast arg13
  let c32_1208 : Index := 32#32
  ![v1836.toNat, 32]
def k3_off922 (i : grid3.Coords) (v464 : BitVec 32) (v469 : BitVec 32) (k3_t230 : Fin (k3_t230_loop i v464 v469).trips) : Fin 2 → Nat :=
  let c256_i32_1091 : BitVec 32 := 256#32
  let c0_i32_1090 : BitVec 32 := 0#32
  let c1024_i32_201 : BitVec 32 := 1024#32
  let c0_i32_200 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v465 : BitVec 32 := Scalar.subi v464 v3
  let v466 : BitVec 32 := Scalar.maxsi c0_i32_200 v465
  let v467 : BitVec 32 := Scalar.minsi c1024_i32_201 v466
  let c768_i32_1089 : BitVec 32 := 768#32
  let v1667 : BitVec 32 := Scalar.subi v467 c768_i32_1089
  let v1668 : BitVec 32 := Scalar.maxsi c0_i32_1090 v1667
  let v1669 : BitVec 32 := Scalar.minsi c256_i32_1091 v1668
  let c256_i32_1094 : BitVec 32 := 256#32
  let c0_i32_1093 : BitVec 32 := 0#32
  let c1024_i32_203 : BitVec 32 := 1024#32
  let c0_i32_202 : BitVec 32 := 0#32
  let v470 : BitVec 32 := Scalar.subi v469 v3
  let v471 : BitVec 32 := Scalar.maxsi c0_i32_202 v470
  let v472 : BitVec 32 := Scalar.minsi c1024_i32_203 v471
  let c768_i32_1092 : BitVec 32 := 768#32
  let v1670 : BitVec 32 := Scalar.subi v472 c768_i32_1092
  let v1671 : BitVec 32 := Scalar.maxsi c0_i32_1093 v1670
  let v1672 : BitVec 32 := Scalar.minsi c256_i32_1094 v1671
  let v1805 : BitVec 32 := Scalar.subi v1672 v1669
  let c1_i32_1195 : BitVec 32 := 1#32
  let v1807 : BitVec 32 := Scalar.divsi v1805 c1_i32_1195
  let v1808 : BitVec 32 := Scalar.muli v1807 c1_i32_1195
  let v1809 : BitVec 32 := Scalar.addi v1669 v1808
  let c1_i32_1197 : BitVec 32 := 1#32
  let arg13 : BitVec 32 := Scf.iv v1809 c1_i32_1197 k3_t230
  let v1840 : Index := Scalar.indexCast arg13
  let c48_1209 : Index := 48#32
  ![v1840.toNat, 48]

def k3_chk19_0 (i : grid3.Coords) (v464 : BitVec 32) (v469 : BitVec 32) : Prop :=
  (∀ (k3_h19 : k3_cond19 i v464 v469 = 1#1), (k3_t37_loop i v464 v469).OK) ∧
  (∀ k3_t37 : Fin (k3_t37_loop i v464 v469).trips, ∀ (k3_h19 : k3_cond19 i v464 v469 = 1#1), ∀ a, (k3_off146 i v464 v469 k3_t37) a + S1x16.size a ≤ S256x128.size a) ∧
  (∀ k3_t37 : Fin (k3_t37_loop i v464 v469).trips, ∀ (k3_h19 : k3_cond19 i v464 v469 = 1#1), ∀ a, (k3_off147 i v464 v469 k3_t37) a + S1x16.size a ≤ S256x128.size a) ∧
  (∀ k3_t37 : Fin (k3_t37_loop i v464 v469).trips, ∀ (k3_h19 : k3_cond19 i v464 v469 = 1#1), ∀ a, (k3_off148 i v464 v469 k3_t37) a + S1x16.size a ≤ S256x128.size a) ∧
  (∀ k3_t37 : Fin (k3_t37_loop i v464 v469).trips, ∀ (k3_h19 : k3_cond19 i v464 v469 = 1#1), ∀ a, (k3_off149 i v464 v469 k3_t37) a + S1x16.size a ≤ S256x128.size a) ∧
  (∀ (k3_h19 : k3_cond19 i v464 v469 = 1#1), (k3_t38_loop i v464 v469).OK) ∧
  (∀ k3_t38 : Fin (k3_t38_loop i v464 v469).trips, ∀ (k3_h19 : k3_cond19 i v464 v469 = 1#1), ∀ a, (k3_off150 i v464 v469 k3_t38) a + S1x16.size a ≤ S256x128.size a) ∧
  (∀ k3_t38 : Fin (k3_t38_loop i v464 v469).trips, ∀ (k3_h19 : k3_cond19 i v464 v469 = 1#1), ∀ a, (k3_off151 i v464 v469 k3_t38) a + S1x16.size a ≤ S256x128.size a) ∧
  (∀ k3_t38 : Fin (k3_t38_loop i v464 v469).trips, ∀ (k3_h19 : k3_cond19 i v464 v469 = 1#1), ∀ a, (k3_off152 i v464 v469 k3_t38) a + S1x16.size a ≤ S256x128.size a) ∧
  (∀ k3_t38 : Fin (k3_t38_loop i v464 v469).trips, ∀ (k3_h19 : k3_cond19 i v464 v469 = 1#1), ∀ a, (k3_off153 i v464 v469 k3_t38) a + S1x16.size a ≤ S256x128.size a) ∧
  (∀ (k3_h51 : k3_cond51 i v464 v469 = 1#1), (k3_t101_loop i v464 v469).OK) ∧
  (∀ k3_t101 : Fin (k3_t101_loop i v464 v469).trips, ∀ (k3_h51 : k3_cond51 i v464 v469 = 1#1), ∀ a, (k3_off403 i v464 v469 k3_t101) a + S1x16.size a ≤ S256x128.size a) ∧
  (∀ k3_t101 : Fin (k3_t101_loop i v464 v469).trips, ∀ (k3_h51 : k3_cond51 i v464 v469 = 1#1), ∀ a, (k3_off404 i v464 v469 k3_t101) a + S1x16.size a ≤ S256x128.size a) ∧
  (∀ k3_t101 : Fin (k3_t101_loop i v464 v469).trips, ∀ (k3_h51 : k3_cond51 i v464 v469 = 1#1), ∀ a, (k3_off405 i v464 v469 k3_t101) a + S1x16.size a ≤ S256x128.size a) ∧
  (∀ k3_t101 : Fin (k3_t101_loop i v464 v469).trips, ∀ (k3_h51 : k3_cond51 i v464 v469 = 1#1), ∀ a, (k3_off406 i v464 v469 k3_t101) a + S1x16.size a ≤ S256x128.size a) ∧
  (∀ (k3_h51 : k3_cond51 i v464 v469 = 1#1), (k3_t102_loop i v464 v469).OK) ∧
  (∀ k3_t102 : Fin (k3_t102_loop i v464 v469).trips, ∀ (k3_h51 : k3_cond51 i v464 v469 = 1#1), ∀ a, (k3_off407 i v464 v469 k3_t102) a + S1x16.size a ≤ S256x128.size a) ∧
  (∀ k3_t102 : Fin (k3_t102_loop i v464 v469).trips, ∀ (k3_h51 : k3_cond51 i v464 v469 = 1#1), ∀ a, (k3_off408 i v464 v469 k3_t102) a + S1x16.size a ≤ S256x128.size a) ∧
  (∀ k3_t102 : Fin (k3_t102_loop i v464 v469).trips, ∀ (k3_h51 : k3_cond51 i v464 v469 = 1#1), ∀ a, (k3_off409 i v464 v469 k3_t102) a + S1x16.size a ≤ S256x128.size a) ∧
  (∀ k3_t102 : Fin (k3_t102_loop i v464 v469).trips, ∀ (k3_h51 : k3_cond51 i v464 v469 = 1#1), ∀ a, (k3_off410 i v464 v469 k3_t102) a + S1x16.size a ≤ S256x128.size a) ∧
  (∀ (k3_h83 : k3_cond83 i v464 v469 = 1#1), (k3_t165_loop i v464 v469).OK) ∧
  (∀ k3_t165 : Fin (k3_t165_loop i v464 v469).trips, ∀ (k3_h83 : k3_cond83 i v464 v469 = 1#1), ∀ a, (k3_off659 i v464 v469 k3_t165) a + S1x16.size a ≤ S256x128.size a) ∧
  (∀ k3_t165 : Fin (k3_t165_loop i v464 v469).trips, ∀ (k3_h83 : k3_cond83 i v464 v469 = 1#1), ∀ a, (k3_off660 i v464 v469 k3_t165) a + S1x16.size a ≤ S256x128.size a) ∧
  (∀ k3_t165 : Fin (k3_t165_loop i v464 v469).trips, ∀ (k3_h83 : k3_cond83 i v464 v469 = 1#1), ∀ a, (k3_off661 i v464 v469 k3_t165) a + S1x16.size a ≤ S256x128.size a) ∧
  (∀ k3_t165 : Fin (k3_t165_loop i v464 v469).trips, ∀ (k3_h83 : k3_cond83 i v464 v469 = 1#1), ∀ a, (k3_off662 i v464 v469 k3_t165) a + S1x16.size a ≤ S256x128.size a) ∧
  (∀ (k3_h83 : k3_cond83 i v464 v469 = 1#1), (k3_t166_loop i v464 v469).OK) ∧
  (∀ k3_t166 : Fin (k3_t166_loop i v464 v469).trips, ∀ (k3_h83 : k3_cond83 i v464 v469 = 1#1), ∀ a, (k3_off663 i v464 v469 k3_t166) a + S1x16.size a ≤ S256x128.size a) ∧
  (∀ k3_t166 : Fin (k3_t166_loop i v464 v469).trips, ∀ (k3_h83 : k3_cond83 i v464 v469 = 1#1), ∀ a, (k3_off664 i v464 v469 k3_t166) a + S1x16.size a ≤ S256x128.size a) ∧
  (∀ k3_t166 : Fin (k3_t166_loop i v464 v469).trips, ∀ (k3_h83 : k3_cond83 i v464 v469 = 1#1), ∀ a, (k3_off665 i v464 v469 k3_t166) a + S1x16.size a ≤ S256x128.size a) ∧
  (∀ k3_t166 : Fin (k3_t166_loop i v464 v469).trips, ∀ (k3_h83 : k3_cond83 i v464 v469 = 1#1), ∀ a, (k3_off666 i v464 v469 k3_t166) a + S1x16.size a ≤ S256x128.size a) ∧
  (∀ (k3_h115 : k3_cond115 i v464 v469 = 1#1), (k3_t229_loop i v464 v469).OK) ∧
  (∀ k3_t229 : Fin (k3_t229_loop i v464 v469).trips, ∀ (k3_h115 : k3_cond115 i v464 v469 = 1#1), ∀ a, (k3_off915 i v464 v469 k3_t229) a + S1x16.size a ≤ S256x128.size a)
def k3_chk19_1 (i : grid3.Coords) (v464 : BitVec 32) (v469 : BitVec 32) : Prop :=
  (∀ k3_t229 : Fin (k3_t229_loop i v464 v469).trips, ∀ (k3_h115 : k3_cond115 i v464 v469 = 1#1), ∀ a, (k3_off916 i v464 v469 k3_t229) a + S1x16.size a ≤ S256x128.size a) ∧
  (∀ k3_t229 : Fin (k3_t229_loop i v464 v469).trips, ∀ (k3_h115 : k3_cond115 i v464 v469 = 1#1), ∀ a, (k3_off917 i v464 v469 k3_t229) a + S1x16.size a ≤ S256x128.size a) ∧
  (∀ k3_t229 : Fin (k3_t229_loop i v464 v469).trips, ∀ (k3_h115 : k3_cond115 i v464 v469 = 1#1), ∀ a, (k3_off918 i v464 v469 k3_t229) a + S1x16.size a ≤ S256x128.size a) ∧
  (∀ (k3_h115 : k3_cond115 i v464 v469 = 1#1), (k3_t230_loop i v464 v469).OK) ∧
  (∀ k3_t230 : Fin (k3_t230_loop i v464 v469).trips, ∀ (k3_h115 : k3_cond115 i v464 v469 = 1#1), ∀ a, (k3_off919 i v464 v469 k3_t230) a + S1x16.size a ≤ S256x128.size a) ∧
  (∀ k3_t230 : Fin (k3_t230_loop i v464 v469).trips, ∀ (k3_h115 : k3_cond115 i v464 v469 = 1#1), ∀ a, (k3_off920 i v464 v469 k3_t230) a + S1x16.size a ≤ S256x128.size a) ∧
  (∀ k3_t230 : Fin (k3_t230_loop i v464 v469).trips, ∀ (k3_h115 : k3_cond115 i v464 v469 = 1#1), ∀ a, (k3_off921 i v464 v469 k3_t230) a + S1x16.size a ≤ S256x128.size a) ∧
  (∀ k3_t230 : Fin (k3_t230_loop i v464 v469).trips, ∀ (k3_h115 : k3_cond115 i v464 v469 = 1#1), ∀ a, (k3_off922 i v464 v469 k3_t230) a + S1x16.size a ≤ S256x128.size a)
def k3_chk19 (i : grid3.Coords) (v464 : BitVec 32) (v469 : BitVec 32) : Prop :=
  k3_chk19_0 i v464 v469 ∧
  k3_chk19_1 i v464 v469
theorem k3_t37_ok : ∀ (i : grid3.Coords) (v464 : BitVec 32) (v469 : BitVec 32) (k3_hw19 : k3_chk19 i v464 v469), ∀ (k3_h19 : k3_cond19 i v464 v469 = 1#1), (k3_t37_loop i v464 v469).OK := fun i v464 v469 k3_hw19 k3_h19 => k3_hw19.1.1 k3_h19
theorem k3_off146_inb : ∀ (i : grid3.Coords) (v464 : BitVec 32) (v469 : BitVec 32) (k3_hw19 : k3_chk19 i v464 v469) (k3_t37 : Fin (k3_t37_loop i v464 v469).trips), ∀ (k3_h19 : k3_cond19 i v464 v469 = 1#1), ∀ a, (k3_off146 i v464 v469 k3_t37) a + S1x16.size a ≤ S256x128.size a := fun i v464 v469 k3_hw19 k3_t37 k3_h19 => k3_hw19.1.2.1 k3_t37 k3_h19
theorem k3_off147_inb : ∀ (i : grid3.Coords) (v464 : BitVec 32) (v469 : BitVec 32) (k3_hw19 : k3_chk19 i v464 v469) (k3_t37 : Fin (k3_t37_loop i v464 v469).trips), ∀ (k3_h19 : k3_cond19 i v464 v469 = 1#1), ∀ a, (k3_off147 i v464 v469 k3_t37) a + S1x16.size a ≤ S256x128.size a := fun i v464 v469 k3_hw19 k3_t37 k3_h19 => k3_hw19.1.2.2.1 k3_t37 k3_h19
theorem k3_off148_inb : ∀ (i : grid3.Coords) (v464 : BitVec 32) (v469 : BitVec 32) (k3_hw19 : k3_chk19 i v464 v469) (k3_t37 : Fin (k3_t37_loop i v464 v469).trips), ∀ (k3_h19 : k3_cond19 i v464 v469 = 1#1), ∀ a, (k3_off148 i v464 v469 k3_t37) a + S1x16.size a ≤ S256x128.size a := fun i v464 v469 k3_hw19 k3_t37 k3_h19 => k3_hw19.1.2.2.2.1 k3_t37 k3_h19
theorem k3_off149_inb : ∀ (i : grid3.Coords) (v464 : BitVec 32) (v469 : BitVec 32) (k3_hw19 : k3_chk19 i v464 v469) (k3_t37 : Fin (k3_t37_loop i v464 v469).trips), ∀ (k3_h19 : k3_cond19 i v464 v469 = 1#1), ∀ a, (k3_off149 i v464 v469 k3_t37) a + S1x16.size a ≤ S256x128.size a := fun i v464 v469 k3_hw19 k3_t37 k3_h19 => k3_hw19.1.2.2.2.2.1 k3_t37 k3_h19
theorem k3_t38_ok : ∀ (i : grid3.Coords) (v464 : BitVec 32) (v469 : BitVec 32) (k3_hw19 : k3_chk19 i v464 v469), ∀ (k3_h19 : k3_cond19 i v464 v469 = 1#1), (k3_t38_loop i v464 v469).OK := fun i v464 v469 k3_hw19 k3_h19 => k3_hw19.1.2.2.2.2.2.1 k3_h19
theorem k3_off150_inb : ∀ (i : grid3.Coords) (v464 : BitVec 32) (v469 : BitVec 32) (k3_hw19 : k3_chk19 i v464 v469) (k3_t38 : Fin (k3_t38_loop i v464 v469).trips), ∀ (k3_h19 : k3_cond19 i v464 v469 = 1#1), ∀ a, (k3_off150 i v464 v469 k3_t38) a + S1x16.size a ≤ S256x128.size a := fun i v464 v469 k3_hw19 k3_t38 k3_h19 => k3_hw19.1.2.2.2.2.2.2.1 k3_t38 k3_h19
theorem k3_off151_inb : ∀ (i : grid3.Coords) (v464 : BitVec 32) (v469 : BitVec 32) (k3_hw19 : k3_chk19 i v464 v469) (k3_t38 : Fin (k3_t38_loop i v464 v469).trips), ∀ (k3_h19 : k3_cond19 i v464 v469 = 1#1), ∀ a, (k3_off151 i v464 v469 k3_t38) a + S1x16.size a ≤ S256x128.size a := fun i v464 v469 k3_hw19 k3_t38 k3_h19 => k3_hw19.1.2.2.2.2.2.2.2.1 k3_t38 k3_h19
theorem k3_off152_inb : ∀ (i : grid3.Coords) (v464 : BitVec 32) (v469 : BitVec 32) (k3_hw19 : k3_chk19 i v464 v469) (k3_t38 : Fin (k3_t38_loop i v464 v469).trips), ∀ (k3_h19 : k3_cond19 i v464 v469 = 1#1), ∀ a, (k3_off152 i v464 v469 k3_t38) a + S1x16.size a ≤ S256x128.size a := fun i v464 v469 k3_hw19 k3_t38 k3_h19 => k3_hw19.1.2.2.2.2.2.2.2.2.1 k3_t38 k3_h19
theorem k3_off153_inb : ∀ (i : grid3.Coords) (v464 : BitVec 32) (v469 : BitVec 32) (k3_hw19 : k3_chk19 i v464 v469) (k3_t38 : Fin (k3_t38_loop i v464 v469).trips), ∀ (k3_h19 : k3_cond19 i v464 v469 = 1#1), ∀ a, (k3_off153 i v464 v469 k3_t38) a + S1x16.size a ≤ S256x128.size a := fun i v464 v469 k3_hw19 k3_t38 k3_h19 => k3_hw19.1.2.2.2.2.2.2.2.2.2.1 k3_t38 k3_h19
theorem k3_t101_ok : ∀ (i : grid3.Coords) (v464 : BitVec 32) (v469 : BitVec 32) (k3_hw19 : k3_chk19 i v464 v469), ∀ (k3_h51 : k3_cond51 i v464 v469 = 1#1), (k3_t101_loop i v464 v469).OK := fun i v464 v469 k3_hw19 k3_h51 => k3_hw19.1.2.2.2.2.2.2.2.2.2.2.1 k3_h51
theorem k3_off403_inb : ∀ (i : grid3.Coords) (v464 : BitVec 32) (v469 : BitVec 32) (k3_hw19 : k3_chk19 i v464 v469) (k3_t101 : Fin (k3_t101_loop i v464 v469).trips), ∀ (k3_h51 : k3_cond51 i v464 v469 = 1#1), ∀ a, (k3_off403 i v464 v469 k3_t101) a + S1x16.size a ≤ S256x128.size a := fun i v464 v469 k3_hw19 k3_t101 k3_h51 => k3_hw19.1.2.2.2.2.2.2.2.2.2.2.2.1 k3_t101 k3_h51
theorem k3_off404_inb : ∀ (i : grid3.Coords) (v464 : BitVec 32) (v469 : BitVec 32) (k3_hw19 : k3_chk19 i v464 v469) (k3_t101 : Fin (k3_t101_loop i v464 v469).trips), ∀ (k3_h51 : k3_cond51 i v464 v469 = 1#1), ∀ a, (k3_off404 i v464 v469 k3_t101) a + S1x16.size a ≤ S256x128.size a := fun i v464 v469 k3_hw19 k3_t101 k3_h51 => k3_hw19.1.2.2.2.2.2.2.2.2.2.2.2.2.1 k3_t101 k3_h51
theorem k3_off405_inb : ∀ (i : grid3.Coords) (v464 : BitVec 32) (v469 : BitVec 32) (k3_hw19 : k3_chk19 i v464 v469) (k3_t101 : Fin (k3_t101_loop i v464 v469).trips), ∀ (k3_h51 : k3_cond51 i v464 v469 = 1#1), ∀ a, (k3_off405 i v464 v469 k3_t101) a + S1x16.size a ≤ S256x128.size a := fun i v464 v469 k3_hw19 k3_t101 k3_h51 => k3_hw19.1.2.2.2.2.2.2.2.2.2.2.2.2.2.1 k3_t101 k3_h51
theorem k3_off406_inb : ∀ (i : grid3.Coords) (v464 : BitVec 32) (v469 : BitVec 32) (k3_hw19 : k3_chk19 i v464 v469) (k3_t101 : Fin (k3_t101_loop i v464 v469).trips), ∀ (k3_h51 : k3_cond51 i v464 v469 = 1#1), ∀ a, (k3_off406 i v464 v469 k3_t101) a + S1x16.size a ≤ S256x128.size a := fun i v464 v469 k3_hw19 k3_t101 k3_h51 => k3_hw19.1.2.2.2.2.2.2.2.2.2.2.2.2.2.2.1 k3_t101 k3_h51
theorem k3_t102_ok : ∀ (i : grid3.Coords) (v464 : BitVec 32) (v469 : BitVec 32) (k3_hw19 : k3_chk19 i v464 v469), ∀ (k3_h51 : k3_cond51 i v464 v469 = 1#1), (k3_t102_loop i v464 v469).OK := fun i v464 v469 k3_hw19 k3_h51 => k3_hw19.1.2.2.2.2.2.2.2.2.2.2.2.2.2.2.2.1 k3_h51
theorem k3_off407_inb : ∀ (i : grid3.Coords) (v464 : BitVec 32) (v469 : BitVec 32) (k3_hw19 : k3_chk19 i v464 v469) (k3_t102 : Fin (k3_t102_loop i v464 v469).trips), ∀ (k3_h51 : k3_cond51 i v464 v469 = 1#1), ∀ a, (k3_off407 i v464 v469 k3_t102) a + S1x16.size a ≤ S256x128.size a := fun i v464 v469 k3_hw19 k3_t102 k3_h51 => k3_hw19.1.2.2.2.2.2.2.2.2.2.2.2.2.2.2.2.2.1 k3_t102 k3_h51
theorem k3_off408_inb : ∀ (i : grid3.Coords) (v464 : BitVec 32) (v469 : BitVec 32) (k3_hw19 : k3_chk19 i v464 v469) (k3_t102 : Fin (k3_t102_loop i v464 v469).trips), ∀ (k3_h51 : k3_cond51 i v464 v469 = 1#1), ∀ a, (k3_off408 i v464 v469 k3_t102) a + S1x16.size a ≤ S256x128.size a := fun i v464 v469 k3_hw19 k3_t102 k3_h51 => k3_hw19.1.2.2.2.2.2.2.2.2.2.2.2.2.2.2.2.2.2.1 k3_t102 k3_h51
theorem k3_off409_inb : ∀ (i : grid3.Coords) (v464 : BitVec 32) (v469 : BitVec 32) (k3_hw19 : k3_chk19 i v464 v469) (k3_t102 : Fin (k3_t102_loop i v464 v469).trips), ∀ (k3_h51 : k3_cond51 i v464 v469 = 1#1), ∀ a, (k3_off409 i v464 v469 k3_t102) a + S1x16.size a ≤ S256x128.size a := fun i v464 v469 k3_hw19 k3_t102 k3_h51 => k3_hw19.1.2.2.2.2.2.2.2.2.2.2.2.2.2.2.2.2.2.2.1 k3_t102 k3_h51
theorem k3_off410_inb : ∀ (i : grid3.Coords) (v464 : BitVec 32) (v469 : BitVec 32) (k3_hw19 : k3_chk19 i v464 v469) (k3_t102 : Fin (k3_t102_loop i v464 v469).trips), ∀ (k3_h51 : k3_cond51 i v464 v469 = 1#1), ∀ a, (k3_off410 i v464 v469 k3_t102) a + S1x16.size a ≤ S256x128.size a := fun i v464 v469 k3_hw19 k3_t102 k3_h51 => k3_hw19.1.2.2.2.2.2.2.2.2.2.2.2.2.2.2.2.2.2.2.2.1 k3_t102 k3_h51
theorem k3_t165_ok : ∀ (i : grid3.Coords) (v464 : BitVec 32) (v469 : BitVec 32) (k3_hw19 : k3_chk19 i v464 v469), ∀ (k3_h83 : k3_cond83 i v464 v469 = 1#1), (k3_t165_loop i v464 v469).OK := fun i v464 v469 k3_hw19 k3_h83 => k3_hw19.1.2.2.2.2.2.2.2.2.2.2.2.2.2.2.2.2.2.2.2.2.1 k3_h83
theorem k3_off659_inb : ∀ (i : grid3.Coords) (v464 : BitVec 32) (v469 : BitVec 32) (k3_hw19 : k3_chk19 i v464 v469) (k3_t165 : Fin (k3_t165_loop i v464 v469).trips), ∀ (k3_h83 : k3_cond83 i v464 v469 = 1#1), ∀ a, (k3_off659 i v464 v469 k3_t165) a + S1x16.size a ≤ S256x128.size a := fun i v464 v469 k3_hw19 k3_t165 k3_h83 => k3_hw19.1.2.2.2.2.2.2.2.2.2.2.2.2.2.2.2.2.2.2.2.2.2.1 k3_t165 k3_h83
theorem k3_off660_inb : ∀ (i : grid3.Coords) (v464 : BitVec 32) (v469 : BitVec 32) (k3_hw19 : k3_chk19 i v464 v469) (k3_t165 : Fin (k3_t165_loop i v464 v469).trips), ∀ (k3_h83 : k3_cond83 i v464 v469 = 1#1), ∀ a, (k3_off660 i v464 v469 k3_t165) a + S1x16.size a ≤ S256x128.size a := fun i v464 v469 k3_hw19 k3_t165 k3_h83 => k3_hw19.1.2.2.2.2.2.2.2.2.2.2.2.2.2.2.2.2.2.2.2.2.2.2.1 k3_t165 k3_h83
theorem k3_off661_inb : ∀ (i : grid3.Coords) (v464 : BitVec 32) (v469 : BitVec 32) (k3_hw19 : k3_chk19 i v464 v469) (k3_t165 : Fin (k3_t165_loop i v464 v469).trips), ∀ (k3_h83 : k3_cond83 i v464 v469 = 1#1), ∀ a, (k3_off661 i v464 v469 k3_t165) a + S1x16.size a ≤ S256x128.size a := fun i v464 v469 k3_hw19 k3_t165 k3_h83 => k3_hw19.1.2.2.2.2.2.2.2.2.2.2.2.2.2.2.2.2.2.2.2.2.2.2.2.1 k3_t165 k3_h83
theorem k3_off662_inb : ∀ (i : grid3.Coords) (v464 : BitVec 32) (v469 : BitVec 32) (k3_hw19 : k3_chk19 i v464 v469) (k3_t165 : Fin (k3_t165_loop i v464 v469).trips), ∀ (k3_h83 : k3_cond83 i v464 v469 = 1#1), ∀ a, (k3_off662 i v464 v469 k3_t165) a + S1x16.size a ≤ S256x128.size a := fun i v464 v469 k3_hw19 k3_t165 k3_h83 => k3_hw19.1.2.2.2.2.2.2.2.2.2.2.2.2.2.2.2.2.2.2.2.2.2.2.2.2.1 k3_t165 k3_h83
theorem k3_t166_ok : ∀ (i : grid3.Coords) (v464 : BitVec 32) (v469 : BitVec 32) (k3_hw19 : k3_chk19 i v464 v469), ∀ (k3_h83 : k3_cond83 i v464 v469 = 1#1), (k3_t166_loop i v464 v469).OK := fun i v464 v469 k3_hw19 k3_h83 => k3_hw19.1.2.2.2.2.2.2.2.2.2.2.2.2.2.2.2.2.2.2.2.2.2.2.2.2.2.1 k3_h83
theorem k3_off663_inb : ∀ (i : grid3.Coords) (v464 : BitVec 32) (v469 : BitVec 32) (k3_hw19 : k3_chk19 i v464 v469) (k3_t166 : Fin (k3_t166_loop i v464 v469).trips), ∀ (k3_h83 : k3_cond83 i v464 v469 = 1#1), ∀ a, (k3_off663 i v464 v469 k3_t166) a + S1x16.size a ≤ S256x128.size a := fun i v464 v469 k3_hw19 k3_t166 k3_h83 => k3_hw19.1.2.2.2.2.2.2.2.2.2.2.2.2.2.2.2.2.2.2.2.2.2.2.2.2.2.2.1 k3_t166 k3_h83
theorem k3_off664_inb : ∀ (i : grid3.Coords) (v464 : BitVec 32) (v469 : BitVec 32) (k3_hw19 : k3_chk19 i v464 v469) (k3_t166 : Fin (k3_t166_loop i v464 v469).trips), ∀ (k3_h83 : k3_cond83 i v464 v469 = 1#1), ∀ a, (k3_off664 i v464 v469 k3_t166) a + S1x16.size a ≤ S256x128.size a := fun i v464 v469 k3_hw19 k3_t166 k3_h83 => k3_hw19.1.2.2.2.2.2.2.2.2.2.2.2.2.2.2.2.2.2.2.2.2.2.2.2.2.2.2.2.1 k3_t166 k3_h83
theorem k3_off665_inb : ∀ (i : grid3.Coords) (v464 : BitVec 32) (v469 : BitVec 32) (k3_hw19 : k3_chk19 i v464 v469) (k3_t166 : Fin (k3_t166_loop i v464 v469).trips), ∀ (k3_h83 : k3_cond83 i v464 v469 = 1#1), ∀ a, (k3_off665 i v464 v469 k3_t166) a + S1x16.size a ≤ S256x128.size a := fun i v464 v469 k3_hw19 k3_t166 k3_h83 => k3_hw19.1.2.2.2.2.2.2.2.2.2.2.2.2.2.2.2.2.2.2.2.2.2.2.2.2.2.2.2.2.1 k3_t166 k3_h83
theorem k3_off666_inb : ∀ (i : grid3.Coords) (v464 : BitVec 32) (v469 : BitVec 32) (k3_hw19 : k3_chk19 i v464 v469) (k3_t166 : Fin (k3_t166_loop i v464 v469).trips), ∀ (k3_h83 : k3_cond83 i v464 v469 = 1#1), ∀ a, (k3_off666 i v464 v469 k3_t166) a + S1x16.size a ≤ S256x128.size a := fun i v464 v469 k3_hw19 k3_t166 k3_h83 => k3_hw19.1.2.2.2.2.2.2.2.2.2.2.2.2.2.2.2.2.2.2.2.2.2.2.2.2.2.2.2.2.2.1 k3_t166 k3_h83
theorem k3_t229_ok : ∀ (i : grid3.Coords) (v464 : BitVec 32) (v469 : BitVec 32) (k3_hw19 : k3_chk19 i v464 v469), ∀ (k3_h115 : k3_cond115 i v464 v469 = 1#1), (k3_t229_loop i v464 v469).OK := fun i v464 v469 k3_hw19 k3_h115 => k3_hw19.1.2.2.2.2.2.2.2.2.2.2.2.2.2.2.2.2.2.2.2.2.2.2.2.2.2.2.2.2.2.2.1 k3_h115
theorem k3_off915_inb : ∀ (i : grid3.Coords) (v464 : BitVec 32) (v469 : BitVec 32) (k3_hw19 : k3_chk19 i v464 v469) (k3_t229 : Fin (k3_t229_loop i v464 v469).trips), ∀ (k3_h115 : k3_cond115 i v464 v469 = 1#1), ∀ a, (k3_off915 i v464 v469 k3_t229) a + S1x16.size a ≤ S256x128.size a := fun i v464 v469 k3_hw19 k3_t229 k3_h115 => k3_hw19.1.2.2.2.2.2.2.2.2.2.2.2.2.2.2.2.2.2.2.2.2.2.2.2.2.2.2.2.2.2.2.2 k3_t229 k3_h115
theorem k3_off916_inb : ∀ (i : grid3.Coords) (v464 : BitVec 32) (v469 : BitVec 32) (k3_hw19 : k3_chk19 i v464 v469) (k3_t229 : Fin (k3_t229_loop i v464 v469).trips), ∀ (k3_h115 : k3_cond115 i v464 v469 = 1#1), ∀ a, (k3_off916 i v464 v469 k3_t229) a + S1x16.size a ≤ S256x128.size a := fun i v464 v469 k3_hw19 k3_t229 k3_h115 => k3_hw19.2.1 k3_t229 k3_h115
theorem k3_off917_inb : ∀ (i : grid3.Coords) (v464 : BitVec 32) (v469 : BitVec 32) (k3_hw19 : k3_chk19 i v464 v469) (k3_t229 : Fin (k3_t229_loop i v464 v469).trips), ∀ (k3_h115 : k3_cond115 i v464 v469 = 1#1), ∀ a, (k3_off917 i v464 v469 k3_t229) a + S1x16.size a ≤ S256x128.size a := fun i v464 v469 k3_hw19 k3_t229 k3_h115 => k3_hw19.2.2.1 k3_t229 k3_h115
theorem k3_off918_inb : ∀ (i : grid3.Coords) (v464 : BitVec 32) (v469 : BitVec 32) (k3_hw19 : k3_chk19 i v464 v469) (k3_t229 : Fin (k3_t229_loop i v464 v469).trips), ∀ (k3_h115 : k3_cond115 i v464 v469 = 1#1), ∀ a, (k3_off918 i v464 v469 k3_t229) a + S1x16.size a ≤ S256x128.size a := fun i v464 v469 k3_hw19 k3_t229 k3_h115 => k3_hw19.2.2.2.1 k3_t229 k3_h115
theorem k3_t230_ok : ∀ (i : grid3.Coords) (v464 : BitVec 32) (v469 : BitVec 32) (k3_hw19 : k3_chk19 i v464 v469), ∀ (k3_h115 : k3_cond115 i v464 v469 = 1#1), (k3_t230_loop i v464 v469).OK := fun i v464 v469 k3_hw19 k3_h115 => k3_hw19.2.2.2.2.1 k3_h115
theorem k3_off919_inb : ∀ (i : grid3.Coords) (v464 : BitVec 32) (v469 : BitVec 32) (k3_hw19 : k3_chk19 i v464 v469) (k3_t230 : Fin (k3_t230_loop i v464 v469).trips), ∀ (k3_h115 : k3_cond115 i v464 v469 = 1#1), ∀ a, (k3_off919 i v464 v469 k3_t230) a + S1x16.size a ≤ S256x128.size a := fun i v464 v469 k3_hw19 k3_t230 k3_h115 => k3_hw19.2.2.2.2.2.1 k3_t230 k3_h115
theorem k3_off920_inb : ∀ (i : grid3.Coords) (v464 : BitVec 32) (v469 : BitVec 32) (k3_hw19 : k3_chk19 i v464 v469) (k3_t230 : Fin (k3_t230_loop i v464 v469).trips), ∀ (k3_h115 : k3_cond115 i v464 v469 = 1#1), ∀ a, (k3_off920 i v464 v469 k3_t230) a + S1x16.size a ≤ S256x128.size a := fun i v464 v469 k3_hw19 k3_t230 k3_h115 => k3_hw19.2.2.2.2.2.2.1 k3_t230 k3_h115
theorem k3_off921_inb : ∀ (i : grid3.Coords) (v464 : BitVec 32) (v469 : BitVec 32) (k3_hw19 : k3_chk19 i v464 v469) (k3_t230 : Fin (k3_t230_loop i v464 v469).trips), ∀ (k3_h115 : k3_cond115 i v464 v469 = 1#1), ∀ a, (k3_off921 i v464 v469 k3_t230) a + S1x16.size a ≤ S256x128.size a := fun i v464 v469 k3_hw19 k3_t230 k3_h115 => k3_hw19.2.2.2.2.2.2.2.1 k3_t230 k3_h115
theorem k3_off922_inb : ∀ (i : grid3.Coords) (v464 : BitVec 32) (v469 : BitVec 32) (k3_hw19 : k3_chk19 i v464 v469) (k3_t230 : Fin (k3_t230_loop i v464 v469).trips), ∀ (k3_h115 : k3_cond115 i v464 v469 = 1#1), ∀ a, (k3_off922 i v464 v469 k3_t230) a + S1x16.size a ≤ S256x128.size a := fun i v464 v469 k3_hw19 k3_t230 k3_h115 => k3_hw19.2.2.2.2.2.2.2.2 k3_t230 k3_h115

@[reducible] def k3_t231_loop (i : grid3.Coords) (v474 : BitVec 32) (v480 : BitVec 32) : Scf.Loop 32 :=
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let c256_i32_1101 : BitVec 32 := 256#32
  let c0_i32_1100 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c768_i32_1099 : BitVec 32 := 768#32
  let v1679 : BitVec 32 := Scalar.subi v484 c768_i32_1099
  let v1680 : BitVec 32 := Scalar.maxsi c0_i32_1100 v1679
  let v1681 : BitVec 32 := Scalar.minsi c256_i32_1101 v1680
  let v1805 : BitVec 32 := Scalar.subi v1681 v1678
  let c1_i32_1195 : BitVec 32 := 1#32
  let v1807 : BitVec 32 := Scalar.divsi v1805 c1_i32_1195
  let v1808 : BitVec 32 := Scalar.muli v1807 c1_i32_1195
  let v1809 : BitVec 32 := Scalar.addi v1678 v1808
  let c1_i32_1196 : BitVec 32 := 1#32
  ⟨v1678, v1809, c1_i32_1196⟩
def k3_cond116 (i : grid3.Coords) (v474 : BitVec 32) (v480 : BitVec 32) : BitVec 1 :=
  let c256_i32_1101 : BitVec 32 := 256#32
  let c0_i32_1100 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v482 : BitVec 32 := Scalar.subi v481 v3
  let v483 : BitVec 32 := Scalar.maxsi c0_i32_208 v482
  let v484 : BitVec 32 := Scalar.minsi c1024_i32_209 v483
  let c768_i32_1099 : BitVec 32 := 768#32
  let v1679 : BitVec 32 := Scalar.subi v484 c768_i32_1099
  let v1680 : BitVec 32 := Scalar.maxsi c0_i32_1100 v1679
  let v1681 : BitVec 32 := Scalar.minsi c256_i32_1101 v1680
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let v1682 : BitVec 1 := Scalar.cmpi .sgt v1681 v1678
  let v1683 : BitVec 32 := Scalar.extui v1682
  let c0_i32_1102 : BitVec 32 := 0#32
  let v1684 : BitVec 1 := Scalar.cmpi .ne v1683 c0_i32_1102
  v1684

def k3_off923 (i : grid3.Coords) (v474 : BitVec 32) (v480 : BitVec 32) (k3_t231 : Fin (k3_t231_loop i v474 v480).trips) : Fin 2 → Nat :=
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let c1_i32_1196 : BitVec 32 := 1#32
  let arg13 : BitVec 32 := Scf.iv v1678 c1_i32_1196 k3_t231
  let v1828 : Index := Scalar.indexCast arg13
  let c64 : Index := 64#32
  ![v1828.toNat, 64]
def k3_off924 (i : grid3.Coords) (v474 : BitVec 32) (v480 : BitVec 32) (k3_t231 : Fin (k3_t231_loop i v474 v480).trips) : Fin 2 → Nat :=
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let c1_i32_1196 : BitVec 32 := 1#32
  let arg13 : BitVec 32 := Scf.iv v1678 c1_i32_1196 k3_t231
  let v1832 : Index := Scalar.indexCast arg13
  let c80 : Index := 80#32
  ![v1832.toNat, 80]
def k3_off925 (i : grid3.Coords) (v474 : BitVec 32) (v480 : BitVec 32) (k3_t231 : Fin (k3_t231_loop i v474 v480).trips) : Fin 2 → Nat :=
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let c1_i32_1196 : BitVec 32 := 1#32
  let arg13 : BitVec 32 := Scf.iv v1678 c1_i32_1196 k3_t231
  let v1836 : Index := Scalar.indexCast arg13
  let c96 : Index := 96#32
  ![v1836.toNat, 96]
def k3_off926 (i : grid3.Coords) (v474 : BitVec 32) (v480 : BitVec 32) (k3_t231 : Fin (k3_t231_loop i v474 v480).trips) : Fin 2 → Nat :=
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let c1_i32_1196 : BitVec 32 := 1#32
  let arg13 : BitVec 32 := Scf.iv v1678 c1_i32_1196 k3_t231
  let v1840 : Index := Scalar.indexCast arg13
  let c112 : Index := 112#32
  ![v1840.toNat, 112]
@[reducible] def k3_t232_loop (i : grid3.Coords) (v474 : BitVec 32) (v480 : BitVec 32) : Scf.Loop 32 :=
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let c256_i32_1101 : BitVec 32 := 256#32
  let c0_i32_1100 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c768_i32_1099 : BitVec 32 := 768#32
  let v1679 : BitVec 32 := Scalar.subi v484 c768_i32_1099
  let v1680 : BitVec 32 := Scalar.maxsi c0_i32_1100 v1679
  let v1681 : BitVec 32 := Scalar.minsi c256_i32_1101 v1680
  let v1805 : BitVec 32 := Scalar.subi v1681 v1678
  let c1_i32_1195 : BitVec 32 := 1#32
  let v1807 : BitVec 32 := Scalar.divsi v1805 c1_i32_1195
  let v1808 : BitVec 32 := Scalar.muli v1807 c1_i32_1195
  let v1809 : BitVec 32 := Scalar.addi v1678 v1808
  let v1806 : BitVec 32 := Scalar.addi v1678 v1805
  let c1_i32_1197 : BitVec 32 := 1#32
  ⟨v1809, v1806, c1_i32_1197⟩
def k3_off927 (i : grid3.Coords) (v474 : BitVec 32) (v480 : BitVec 32) (k3_t232 : Fin (k3_t232_loop i v474 v480).trips) : Fin 2 → Nat :=
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let c256_i32_1101 : BitVec 32 := 256#32
  let c0_i32_1100 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c768_i32_1099 : BitVec 32 := 768#32
  let v1679 : BitVec 32 := Scalar.subi v484 c768_i32_1099
  let v1680 : BitVec 32 := Scalar.maxsi c0_i32_1100 v1679
  let v1681 : BitVec 32 := Scalar.minsi c256_i32_1101 v1680
  let v1805 : BitVec 32 := Scalar.subi v1681 v1678
  let c1_i32_1195 : BitVec 32 := 1#32
  let v1807 : BitVec 32 := Scalar.divsi v1805 c1_i32_1195
  let v1808 : BitVec 32 := Scalar.muli v1807 c1_i32_1195
  let v1809 : BitVec 32 := Scalar.addi v1678 v1808
  let c1_i32_1197 : BitVec 32 := 1#32
  let arg13 : BitVec 32 := Scf.iv v1809 c1_i32_1197 k3_t232
  let v1828 : Index := Scalar.indexCast arg13
  let c64 : Index := 64#32
  ![v1828.toNat, 64]
def k3_off928 (i : grid3.Coords) (v474 : BitVec 32) (v480 : BitVec 32) (k3_t232 : Fin (k3_t232_loop i v474 v480).trips) : Fin 2 → Nat :=
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let c256_i32_1101 : BitVec 32 := 256#32
  let c0_i32_1100 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c768_i32_1099 : BitVec 32 := 768#32
  let v1679 : BitVec 32 := Scalar.subi v484 c768_i32_1099
  let v1680 : BitVec 32 := Scalar.maxsi c0_i32_1100 v1679
  let v1681 : BitVec 32 := Scalar.minsi c256_i32_1101 v1680
  let v1805 : BitVec 32 := Scalar.subi v1681 v1678
  let c1_i32_1195 : BitVec 32 := 1#32
  let v1807 : BitVec 32 := Scalar.divsi v1805 c1_i32_1195
  let v1808 : BitVec 32 := Scalar.muli v1807 c1_i32_1195
  let v1809 : BitVec 32 := Scalar.addi v1678 v1808
  let c1_i32_1197 : BitVec 32 := 1#32
  let arg13 : BitVec 32 := Scf.iv v1809 c1_i32_1197 k3_t232
  let v1832 : Index := Scalar.indexCast arg13
  let c80 : Index := 80#32
  ![v1832.toNat, 80]
def k3_off929 (i : grid3.Coords) (v474 : BitVec 32) (v480 : BitVec 32) (k3_t232 : Fin (k3_t232_loop i v474 v480).trips) : Fin 2 → Nat :=
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let c256_i32_1101 : BitVec 32 := 256#32
  let c0_i32_1100 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c768_i32_1099 : BitVec 32 := 768#32
  let v1679 : BitVec 32 := Scalar.subi v484 c768_i32_1099
  let v1680 : BitVec 32 := Scalar.maxsi c0_i32_1100 v1679
  let v1681 : BitVec 32 := Scalar.minsi c256_i32_1101 v1680
  let v1805 : BitVec 32 := Scalar.subi v1681 v1678
  let c1_i32_1195 : BitVec 32 := 1#32
  let v1807 : BitVec 32 := Scalar.divsi v1805 c1_i32_1195
  let v1808 : BitVec 32 := Scalar.muli v1807 c1_i32_1195
  let v1809 : BitVec 32 := Scalar.addi v1678 v1808
  let c1_i32_1197 : BitVec 32 := 1#32
  let arg13 : BitVec 32 := Scf.iv v1809 c1_i32_1197 k3_t232
  let v1836 : Index := Scalar.indexCast arg13
  let c96 : Index := 96#32
  ![v1836.toNat, 96]
def k3_off930 (i : grid3.Coords) (v474 : BitVec 32) (v480 : BitVec 32) (k3_t232 : Fin (k3_t232_loop i v474 v480).trips) : Fin 2 → Nat :=
  let c256_i32_1098 : BitVec 32 := 256#32
  let c0_i32_1097 : BitVec 32 := 0#32
  let c1024_i32_206 : BitVec 32 := 1024#32
  let c0_i32_205 : BitVec 32 := 0#32
  let c65536_i32_204 : BitVec 32 := 65536#32
  let v475 : BitVec 32 := Scalar.subi v474 c65536_i32_204
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v476 : BitVec 32 := Scalar.subi v475 v3
  let v477 : BitVec 32 := Scalar.maxsi c0_i32_205 v476
  let v478 : BitVec 32 := Scalar.minsi c1024_i32_206 v477
  let c768_i32_1096 : BitVec 32 := 768#32
  let v1676 : BitVec 32 := Scalar.subi v478 c768_i32_1096
  let v1677 : BitVec 32 := Scalar.maxsi c0_i32_1097 v1676
  let v1678 : BitVec 32 := Scalar.minsi c256_i32_1098 v1677
  let c256_i32_1101 : BitVec 32 := 256#32
  let c0_i32_1100 : BitVec 32 := 0#32
  let c1024_i32_209 : BitVec 32 := 1024#32
  let c0_i32_208 : BitVec 32 := 0#32
  let c65536_i32_207 : BitVec 32 := 65536#32
  let v481 : BitVec 32 := Scalar.subi v480 c65536_i32_207
  let v482 : BitVec 32 := Scalar.subi v481 v3
  let v483 : BitVec 32 := Scalar.maxsi c0_i32_208 v482
  let v484 : BitVec 32 := Scalar.minsi c1024_i32_209 v483
  let c768_i32_1099 : BitVec 32 := 768#32
  let v1679 : BitVec 32 := Scalar.subi v484 c768_i32_1099
  let v1680 : BitVec 32 := Scalar.maxsi c0_i32_1100 v1679
  let v1681 : BitVec 32 := Scalar.minsi c256_i32_1101 v1680
  let v1805 : BitVec 32 := Scalar.subi v1681 v1678
  let c1_i32_1195 : BitVec 32 := 1#32
  let v1807 : BitVec 32 := Scalar.divsi v1805 c1_i32_1195
  let v1808 : BitVec 32 := Scalar.muli v1807 c1_i32_1195
  let v1809 : BitVec 32 := Scalar.addi v1678 v1808
  let c1_i32_1197 : BitVec 32 := 1#32
  let arg13 : BitVec 32 := Scf.iv v1809 c1_i32_1197 k3_t232
  let v1840 : Index := Scalar.indexCast arg13
  let c112 : Index := 112#32
  ![v1840.toNat, 112]

def k3_chk20_0 (i : grid3.Coords) (v474 : BitVec 32) (v480 : BitVec 32) : Prop :=
  (∀ (k3_h20 : k3_cond20 i v474 v480 = 1#1), (k3_t39_loop i v474 v480).OK) ∧
  (∀ k3_t39 : Fin (k3_t39_loop i v474 v480).trips, ∀ (k3_h20 : k3_cond20 i v474 v480 = 1#1), ∀ a, (k3_off154 i v474 v480 k3_t39) a + S1x16.size a ≤ S256x128.size a) ∧
  (∀ k3_t39 : Fin (k3_t39_loop i v474 v480).trips, ∀ (k3_h20 : k3_cond20 i v474 v480 = 1#1), ∀ a, (k3_off155 i v474 v480 k3_t39) a + S1x16.size a ≤ S256x128.size a) ∧
  (∀ k3_t39 : Fin (k3_t39_loop i v474 v480).trips, ∀ (k3_h20 : k3_cond20 i v474 v480 = 1#1), ∀ a, (k3_off156 i v474 v480 k3_t39) a + S1x16.size a ≤ S256x128.size a) ∧
  (∀ k3_t39 : Fin (k3_t39_loop i v474 v480).trips, ∀ (k3_h20 : k3_cond20 i v474 v480 = 1#1), ∀ a, (k3_off157 i v474 v480 k3_t39) a + S1x16.size a ≤ S256x128.size a) ∧
  (∀ (k3_h20 : k3_cond20 i v474 v480 = 1#1), (k3_t40_loop i v474 v480).OK) ∧
  (∀ k3_t40 : Fin (k3_t40_loop i v474 v480).trips, ∀ (k3_h20 : k3_cond20 i v474 v480 = 1#1), ∀ a, (k3_off158 i v474 v480 k3_t40) a + S1x16.size a ≤ S256x128.size a) ∧
  (∀ k3_t40 : Fin (k3_t40_loop i v474 v480).trips, ∀ (k3_h20 : k3_cond20 i v474 v480 = 1#1), ∀ a, (k3_off159 i v474 v480 k3_t40) a + S1x16.size a ≤ S256x128.size a) ∧
  (∀ k3_t40 : Fin (k3_t40_loop i v474 v480).trips, ∀ (k3_h20 : k3_cond20 i v474 v480 = 1#1), ∀ a, (k3_off160 i v474 v480 k3_t40) a + S1x16.size a ≤ S256x128.size a) ∧
  (∀ k3_t40 : Fin (k3_t40_loop i v474 v480).trips, ∀ (k3_h20 : k3_cond20 i v474 v480 = 1#1), ∀ a, (k3_off161 i v474 v480 k3_t40) a + S1x16.size a ≤ S256x128.size a) ∧
  (∀ (k3_h52 : k3_cond52 i v474 v480 = 1#1), (k3_t103_loop i v474 v480).OK) ∧
  (∀ k3_t103 : Fin (k3_t103_loop i v474 v480).trips, ∀ (k3_h52 : k3_cond52 i v474 v480 = 1#1), ∀ a, (k3_off411 i v474 v480 k3_t103) a + S1x16.size a ≤ S256x128.size a) ∧
  (∀ k3_t103 : Fin (k3_t103_loop i v474 v480).trips, ∀ (k3_h52 : k3_cond52 i v474 v480 = 1#1), ∀ a, (k3_off412 i v474 v480 k3_t103) a + S1x16.size a ≤ S256x128.size a) ∧
  (∀ k3_t103 : Fin (k3_t103_loop i v474 v480).trips, ∀ (k3_h52 : k3_cond52 i v474 v480 = 1#1), ∀ a, (k3_off413 i v474 v480 k3_t103) a + S1x16.size a ≤ S256x128.size a) ∧
  (∀ k3_t103 : Fin (k3_t103_loop i v474 v480).trips, ∀ (k3_h52 : k3_cond52 i v474 v480 = 1#1), ∀ a, (k3_off414 i v474 v480 k3_t103) a + S1x16.size a ≤ S256x128.size a) ∧
  (∀ (k3_h52 : k3_cond52 i v474 v480 = 1#1), (k3_t104_loop i v474 v480).OK) ∧
  (∀ k3_t104 : Fin (k3_t104_loop i v474 v480).trips, ∀ (k3_h52 : k3_cond52 i v474 v480 = 1#1), ∀ a, (k3_off415 i v474 v480 k3_t104) a + S1x16.size a ≤ S256x128.size a) ∧
  (∀ k3_t104 : Fin (k3_t104_loop i v474 v480).trips, ∀ (k3_h52 : k3_cond52 i v474 v480 = 1#1), ∀ a, (k3_off416 i v474 v480 k3_t104) a + S1x16.size a ≤ S256x128.size a) ∧
  (∀ k3_t104 : Fin (k3_t104_loop i v474 v480).trips, ∀ (k3_h52 : k3_cond52 i v474 v480 = 1#1), ∀ a, (k3_off417 i v474 v480 k3_t104) a + S1x16.size a ≤ S256x128.size a) ∧
  (∀ k3_t104 : Fin (k3_t104_loop i v474 v480).trips, ∀ (k3_h52 : k3_cond52 i v474 v480 = 1#1), ∀ a, (k3_off418 i v474 v480 k3_t104) a + S1x16.size a ≤ S256x128.size a) ∧
  (∀ (k3_h84 : k3_cond84 i v474 v480 = 1#1), (k3_t167_loop i v474 v480).OK) ∧
  (∀ k3_t167 : Fin (k3_t167_loop i v474 v480).trips, ∀ (k3_h84 : k3_cond84 i v474 v480 = 1#1), ∀ a, (k3_off667 i v474 v480 k3_t167) a + S1x16.size a ≤ S256x128.size a) ∧
  (∀ k3_t167 : Fin (k3_t167_loop i v474 v480).trips, ∀ (k3_h84 : k3_cond84 i v474 v480 = 1#1), ∀ a, (k3_off668 i v474 v480 k3_t167) a + S1x16.size a ≤ S256x128.size a) ∧
  (∀ k3_t167 : Fin (k3_t167_loop i v474 v480).trips, ∀ (k3_h84 : k3_cond84 i v474 v480 = 1#1), ∀ a, (k3_off669 i v474 v480 k3_t167) a + S1x16.size a ≤ S256x128.size a) ∧
  (∀ k3_t167 : Fin (k3_t167_loop i v474 v480).trips, ∀ (k3_h84 : k3_cond84 i v474 v480 = 1#1), ∀ a, (k3_off670 i v474 v480 k3_t167) a + S1x16.size a ≤ S256x128.size a) ∧
  (∀ (k3_h84 : k3_cond84 i v474 v480 = 1#1), (k3_t168_loop i v474 v480).OK) ∧
  (∀ k3_t168 : Fin (k3_t168_loop i v474 v480).trips, ∀ (k3_h84 : k3_cond84 i v474 v480 = 1#1), ∀ a, (k3_off671 i v474 v480 k3_t168) a + S1x16.size a ≤ S256x128.size a) ∧
  (∀ k3_t168 : Fin (k3_t168_loop i v474 v480).trips, ∀ (k3_h84 : k3_cond84 i v474 v480 = 1#1), ∀ a, (k3_off672 i v474 v480 k3_t168) a + S1x16.size a ≤ S256x128.size a) ∧
  (∀ k3_t168 : Fin (k3_t168_loop i v474 v480).trips, ∀ (k3_h84 : k3_cond84 i v474 v480 = 1#1), ∀ a, (k3_off673 i v474 v480 k3_t168) a + S1x16.size a ≤ S256x128.size a) ∧
  (∀ k3_t168 : Fin (k3_t168_loop i v474 v480).trips, ∀ (k3_h84 : k3_cond84 i v474 v480 = 1#1), ∀ a, (k3_off674 i v474 v480 k3_t168) a + S1x16.size a ≤ S256x128.size a) ∧
  (∀ (k3_h116 : k3_cond116 i v474 v480 = 1#1), (k3_t231_loop i v474 v480).OK) ∧
  (∀ k3_t231 : Fin (k3_t231_loop i v474 v480).trips, ∀ (k3_h116 : k3_cond116 i v474 v480 = 1#1), ∀ a, (k3_off923 i v474 v480 k3_t231) a + S1x16.size a ≤ S256x128.size a)
def k3_chk20_1 (i : grid3.Coords) (v474 : BitVec 32) (v480 : BitVec 32) : Prop :=
  (∀ k3_t231 : Fin (k3_t231_loop i v474 v480).trips, ∀ (k3_h116 : k3_cond116 i v474 v480 = 1#1), ∀ a, (k3_off924 i v474 v480 k3_t231) a + S1x16.size a ≤ S256x128.size a) ∧
  (∀ k3_t231 : Fin (k3_t231_loop i v474 v480).trips, ∀ (k3_h116 : k3_cond116 i v474 v480 = 1#1), ∀ a, (k3_off925 i v474 v480 k3_t231) a + S1x16.size a ≤ S256x128.size a) ∧
  (∀ k3_t231 : Fin (k3_t231_loop i v474 v480).trips, ∀ (k3_h116 : k3_cond116 i v474 v480 = 1#1), ∀ a, (k3_off926 i v474 v480 k3_t231) a + S1x16.size a ≤ S256x128.size a) ∧
  (∀ (k3_h116 : k3_cond116 i v474 v480 = 1#1), (k3_t232_loop i v474 v480).OK) ∧
  (∀ k3_t232 : Fin (k3_t232_loop i v474 v480).trips, ∀ (k3_h116 : k3_cond116 i v474 v480 = 1#1), ∀ a, (k3_off927 i v474 v480 k3_t232) a + S1x16.size a ≤ S256x128.size a) ∧
  (∀ k3_t232 : Fin (k3_t232_loop i v474 v480).trips, ∀ (k3_h116 : k3_cond116 i v474 v480 = 1#1), ∀ a, (k3_off928 i v474 v480 k3_t232) a + S1x16.size a ≤ S256x128.size a) ∧
  (∀ k3_t232 : Fin (k3_t232_loop i v474 v480).trips, ∀ (k3_h116 : k3_cond116 i v474 v480 = 1#1), ∀ a, (k3_off929 i v474 v480 k3_t232) a + S1x16.size a ≤ S256x128.size a) ∧
  (∀ k3_t232 : Fin (k3_t232_loop i v474 v480).trips, ∀ (k3_h116 : k3_cond116 i v474 v480 = 1#1), ∀ a, (k3_off930 i v474 v480 k3_t232) a + S1x16.size a ≤ S256x128.size a)
def k3_chk20 (i : grid3.Coords) (v474 : BitVec 32) (v480 : BitVec 32) : Prop :=
  k3_chk20_0 i v474 v480 ∧
  k3_chk20_1 i v474 v480
theorem k3_t39_ok : ∀ (i : grid3.Coords) (v474 : BitVec 32) (v480 : BitVec 32) (k3_hw20 : k3_chk20 i v474 v480), ∀ (k3_h20 : k3_cond20 i v474 v480 = 1#1), (k3_t39_loop i v474 v480).OK := fun i v474 v480 k3_hw20 k3_h20 => k3_hw20.1.1 k3_h20
theorem k3_off154_inb : ∀ (i : grid3.Coords) (v474 : BitVec 32) (v480 : BitVec 32) (k3_hw20 : k3_chk20 i v474 v480) (k3_t39 : Fin (k3_t39_loop i v474 v480).trips), ∀ (k3_h20 : k3_cond20 i v474 v480 = 1#1), ∀ a, (k3_off154 i v474 v480 k3_t39) a + S1x16.size a ≤ S256x128.size a := fun i v474 v480 k3_hw20 k3_t39 k3_h20 => k3_hw20.1.2.1 k3_t39 k3_h20
theorem k3_off155_inb : ∀ (i : grid3.Coords) (v474 : BitVec 32) (v480 : BitVec 32) (k3_hw20 : k3_chk20 i v474 v480) (k3_t39 : Fin (k3_t39_loop i v474 v480).trips), ∀ (k3_h20 : k3_cond20 i v474 v480 = 1#1), ∀ a, (k3_off155 i v474 v480 k3_t39) a + S1x16.size a ≤ S256x128.size a := fun i v474 v480 k3_hw20 k3_t39 k3_h20 => k3_hw20.1.2.2.1 k3_t39 k3_h20
theorem k3_off156_inb : ∀ (i : grid3.Coords) (v474 : BitVec 32) (v480 : BitVec 32) (k3_hw20 : k3_chk20 i v474 v480) (k3_t39 : Fin (k3_t39_loop i v474 v480).trips), ∀ (k3_h20 : k3_cond20 i v474 v480 = 1#1), ∀ a, (k3_off156 i v474 v480 k3_t39) a + S1x16.size a ≤ S256x128.size a := fun i v474 v480 k3_hw20 k3_t39 k3_h20 => k3_hw20.1.2.2.2.1 k3_t39 k3_h20
theorem k3_off157_inb : ∀ (i : grid3.Coords) (v474 : BitVec 32) (v480 : BitVec 32) (k3_hw20 : k3_chk20 i v474 v480) (k3_t39 : Fin (k3_t39_loop i v474 v480).trips), ∀ (k3_h20 : k3_cond20 i v474 v480 = 1#1), ∀ a, (k3_off157 i v474 v480 k3_t39) a + S1x16.size a ≤ S256x128.size a := fun i v474 v480 k3_hw20 k3_t39 k3_h20 => k3_hw20.1.2.2.2.2.1 k3_t39 k3_h20
theorem k3_t40_ok : ∀ (i : grid3.Coords) (v474 : BitVec 32) (v480 : BitVec 32) (k3_hw20 : k3_chk20 i v474 v480), ∀ (k3_h20 : k3_cond20 i v474 v480 = 1#1), (k3_t40_loop i v474 v480).OK := fun i v474 v480 k3_hw20 k3_h20 => k3_hw20.1.2.2.2.2.2.1 k3_h20
theorem k3_off158_inb : ∀ (i : grid3.Coords) (v474 : BitVec 32) (v480 : BitVec 32) (k3_hw20 : k3_chk20 i v474 v480) (k3_t40 : Fin (k3_t40_loop i v474 v480).trips), ∀ (k3_h20 : k3_cond20 i v474 v480 = 1#1), ∀ a, (k3_off158 i v474 v480 k3_t40) a + S1x16.size a ≤ S256x128.size a := fun i v474 v480 k3_hw20 k3_t40 k3_h20 => k3_hw20.1.2.2.2.2.2.2.1 k3_t40 k3_h20
theorem k3_off159_inb : ∀ (i : grid3.Coords) (v474 : BitVec 32) (v480 : BitVec 32) (k3_hw20 : k3_chk20 i v474 v480) (k3_t40 : Fin (k3_t40_loop i v474 v480).trips), ∀ (k3_h20 : k3_cond20 i v474 v480 = 1#1), ∀ a, (k3_off159 i v474 v480 k3_t40) a + S1x16.size a ≤ S256x128.size a := fun i v474 v480 k3_hw20 k3_t40 k3_h20 => k3_hw20.1.2.2.2.2.2.2.2.1 k3_t40 k3_h20
theorem k3_off160_inb : ∀ (i : grid3.Coords) (v474 : BitVec 32) (v480 : BitVec 32) (k3_hw20 : k3_chk20 i v474 v480) (k3_t40 : Fin (k3_t40_loop i v474 v480).trips), ∀ (k3_h20 : k3_cond20 i v474 v480 = 1#1), ∀ a, (k3_off160 i v474 v480 k3_t40) a + S1x16.size a ≤ S256x128.size a := fun i v474 v480 k3_hw20 k3_t40 k3_h20 => k3_hw20.1.2.2.2.2.2.2.2.2.1 k3_t40 k3_h20
theorem k3_off161_inb : ∀ (i : grid3.Coords) (v474 : BitVec 32) (v480 : BitVec 32) (k3_hw20 : k3_chk20 i v474 v480) (k3_t40 : Fin (k3_t40_loop i v474 v480).trips), ∀ (k3_h20 : k3_cond20 i v474 v480 = 1#1), ∀ a, (k3_off161 i v474 v480 k3_t40) a + S1x16.size a ≤ S256x128.size a := fun i v474 v480 k3_hw20 k3_t40 k3_h20 => k3_hw20.1.2.2.2.2.2.2.2.2.2.1 k3_t40 k3_h20
theorem k3_t103_ok : ∀ (i : grid3.Coords) (v474 : BitVec 32) (v480 : BitVec 32) (k3_hw20 : k3_chk20 i v474 v480), ∀ (k3_h52 : k3_cond52 i v474 v480 = 1#1), (k3_t103_loop i v474 v480).OK := fun i v474 v480 k3_hw20 k3_h52 => k3_hw20.1.2.2.2.2.2.2.2.2.2.2.1 k3_h52
theorem k3_off411_inb : ∀ (i : grid3.Coords) (v474 : BitVec 32) (v480 : BitVec 32) (k3_hw20 : k3_chk20 i v474 v480) (k3_t103 : Fin (k3_t103_loop i v474 v480).trips), ∀ (k3_h52 : k3_cond52 i v474 v480 = 1#1), ∀ a, (k3_off411 i v474 v480 k3_t103) a + S1x16.size a ≤ S256x128.size a := fun i v474 v480 k3_hw20 k3_t103 k3_h52 => k3_hw20.1.2.2.2.2.2.2.2.2.2.2.2.1 k3_t103 k3_h52
theorem k3_off412_inb : ∀ (i : grid3.Coords) (v474 : BitVec 32) (v480 : BitVec 32) (k3_hw20 : k3_chk20 i v474 v480) (k3_t103 : Fin (k3_t103_loop i v474 v480).trips), ∀ (k3_h52 : k3_cond52 i v474 v480 = 1#1), ∀ a, (k3_off412 i v474 v480 k3_t103) a + S1x16.size a ≤ S256x128.size a := fun i v474 v480 k3_hw20 k3_t103 k3_h52 => k3_hw20.1.2.2.2.2.2.2.2.2.2.2.2.2.1 k3_t103 k3_h52
theorem k3_off413_inb : ∀ (i : grid3.Coords) (v474 : BitVec 32) (v480 : BitVec 32) (k3_hw20 : k3_chk20 i v474 v480) (k3_t103 : Fin (k3_t103_loop i v474 v480).trips), ∀ (k3_h52 : k3_cond52 i v474 v480 = 1#1), ∀ a, (k3_off413 i v474 v480 k3_t103) a + S1x16.size a ≤ S256x128.size a := fun i v474 v480 k3_hw20 k3_t103 k3_h52 => k3_hw20.1.2.2.2.2.2.2.2.2.2.2.2.2.2.1 k3_t103 k3_h52
theorem k3_off414_inb : ∀ (i : grid3.Coords) (v474 : BitVec 32) (v480 : BitVec 32) (k3_hw20 : k3_chk20 i v474 v480) (k3_t103 : Fin (k3_t103_loop i v474 v480).trips), ∀ (k3_h52 : k3_cond52 i v474 v480 = 1#1), ∀ a, (k3_off414 i v474 v480 k3_t103) a + S1x16.size a ≤ S256x128.size a := fun i v474 v480 k3_hw20 k3_t103 k3_h52 => k3_hw20.1.2.2.2.2.2.2.2.2.2.2.2.2.2.2.1 k3_t103 k3_h52
theorem k3_t104_ok : ∀ (i : grid3.Coords) (v474 : BitVec 32) (v480 : BitVec 32) (k3_hw20 : k3_chk20 i v474 v480), ∀ (k3_h52 : k3_cond52 i v474 v480 = 1#1), (k3_t104_loop i v474 v480).OK := fun i v474 v480 k3_hw20 k3_h52 => k3_hw20.1.2.2.2.2.2.2.2.2.2.2.2.2.2.2.2.1 k3_h52
theorem k3_off415_inb : ∀ (i : grid3.Coords) (v474 : BitVec 32) (v480 : BitVec 32) (k3_hw20 : k3_chk20 i v474 v480) (k3_t104 : Fin (k3_t104_loop i v474 v480).trips), ∀ (k3_h52 : k3_cond52 i v474 v480 = 1#1), ∀ a, (k3_off415 i v474 v480 k3_t104) a + S1x16.size a ≤ S256x128.size a := fun i v474 v480 k3_hw20 k3_t104 k3_h52 => k3_hw20.1.2.2.2.2.2.2.2.2.2.2.2.2.2.2.2.2.1 k3_t104 k3_h52
theorem k3_off416_inb : ∀ (i : grid3.Coords) (v474 : BitVec 32) (v480 : BitVec 32) (k3_hw20 : k3_chk20 i v474 v480) (k3_t104 : Fin (k3_t104_loop i v474 v480).trips), ∀ (k3_h52 : k3_cond52 i v474 v480 = 1#1), ∀ a, (k3_off416 i v474 v480 k3_t104) a + S1x16.size a ≤ S256x128.size a := fun i v474 v480 k3_hw20 k3_t104 k3_h52 => k3_hw20.1.2.2.2.2.2.2.2.2.2.2.2.2.2.2.2.2.2.1 k3_t104 k3_h52
theorem k3_off417_inb : ∀ (i : grid3.Coords) (v474 : BitVec 32) (v480 : BitVec 32) (k3_hw20 : k3_chk20 i v474 v480) (k3_t104 : Fin (k3_t104_loop i v474 v480).trips), ∀ (k3_h52 : k3_cond52 i v474 v480 = 1#1), ∀ a, (k3_off417 i v474 v480 k3_t104) a + S1x16.size a ≤ S256x128.size a := fun i v474 v480 k3_hw20 k3_t104 k3_h52 => k3_hw20.1.2.2.2.2.2.2.2.2.2.2.2.2.2.2.2.2.2.2.1 k3_t104 k3_h52
theorem k3_off418_inb : ∀ (i : grid3.Coords) (v474 : BitVec 32) (v480 : BitVec 32) (k3_hw20 : k3_chk20 i v474 v480) (k3_t104 : Fin (k3_t104_loop i v474 v480).trips), ∀ (k3_h52 : k3_cond52 i v474 v480 = 1#1), ∀ a, (k3_off418 i v474 v480 k3_t104) a + S1x16.size a ≤ S256x128.size a := fun i v474 v480 k3_hw20 k3_t104 k3_h52 => k3_hw20.1.2.2.2.2.2.2.2.2.2.2.2.2.2.2.2.2.2.2.2.1 k3_t104 k3_h52
theorem k3_t167_ok : ∀ (i : grid3.Coords) (v474 : BitVec 32) (v480 : BitVec 32) (k3_hw20 : k3_chk20 i v474 v480), ∀ (k3_h84 : k3_cond84 i v474 v480 = 1#1), (k3_t167_loop i v474 v480).OK := fun i v474 v480 k3_hw20 k3_h84 => k3_hw20.1.2.2.2.2.2.2.2.2.2.2.2.2.2.2.2.2.2.2.2.2.1 k3_h84
theorem k3_off667_inb : ∀ (i : grid3.Coords) (v474 : BitVec 32) (v480 : BitVec 32) (k3_hw20 : k3_chk20 i v474 v480) (k3_t167 : Fin (k3_t167_loop i v474 v480).trips), ∀ (k3_h84 : k3_cond84 i v474 v480 = 1#1), ∀ a, (k3_off667 i v474 v480 k3_t167) a + S1x16.size a ≤ S256x128.size a := fun i v474 v480 k3_hw20 k3_t167 k3_h84 => k3_hw20.1.2.2.2.2.2.2.2.2.2.2.2.2.2.2.2.2.2.2.2.2.2.1 k3_t167 k3_h84
theorem k3_off668_inb : ∀ (i : grid3.Coords) (v474 : BitVec 32) (v480 : BitVec 32) (k3_hw20 : k3_chk20 i v474 v480) (k3_t167 : Fin (k3_t167_loop i v474 v480).trips), ∀ (k3_h84 : k3_cond84 i v474 v480 = 1#1), ∀ a, (k3_off668 i v474 v480 k3_t167) a + S1x16.size a ≤ S256x128.size a := fun i v474 v480 k3_hw20 k3_t167 k3_h84 => k3_hw20.1.2.2.2.2.2.2.2.2.2.2.2.2.2.2.2.2.2.2.2.2.2.2.1 k3_t167 k3_h84
theorem k3_off669_inb : ∀ (i : grid3.Coords) (v474 : BitVec 32) (v480 : BitVec 32) (k3_hw20 : k3_chk20 i v474 v480) (k3_t167 : Fin (k3_t167_loop i v474 v480).trips), ∀ (k3_h84 : k3_cond84 i v474 v480 = 1#1), ∀ a, (k3_off669 i v474 v480 k3_t167) a + S1x16.size a ≤ S256x128.size a := fun i v474 v480 k3_hw20 k3_t167 k3_h84 => k3_hw20.1.2.2.2.2.2.2.2.2.2.2.2.2.2.2.2.2.2.2.2.2.2.2.2.1 k3_t167 k3_h84
theorem k3_off670_inb : ∀ (i : grid3.Coords) (v474 : BitVec 32) (v480 : BitVec 32) (k3_hw20 : k3_chk20 i v474 v480) (k3_t167 : Fin (k3_t167_loop i v474 v480).trips), ∀ (k3_h84 : k3_cond84 i v474 v480 = 1#1), ∀ a, (k3_off670 i v474 v480 k3_t167) a + S1x16.size a ≤ S256x128.size a := fun i v474 v480 k3_hw20 k3_t167 k3_h84 => k3_hw20.1.2.2.2.2.2.2.2.2.2.2.2.2.2.2.2.2.2.2.2.2.2.2.2.2.1 k3_t167 k3_h84
theorem k3_t168_ok : ∀ (i : grid3.Coords) (v474 : BitVec 32) (v480 : BitVec 32) (k3_hw20 : k3_chk20 i v474 v480), ∀ (k3_h84 : k3_cond84 i v474 v480 = 1#1), (k3_t168_loop i v474 v480).OK := fun i v474 v480 k3_hw20 k3_h84 => k3_hw20.1.2.2.2.2.2.2.2.2.2.2.2.2.2.2.2.2.2.2.2.2.2.2.2.2.2.1 k3_h84
theorem k3_off671_inb : ∀ (i : grid3.Coords) (v474 : BitVec 32) (v480 : BitVec 32) (k3_hw20 : k3_chk20 i v474 v480) (k3_t168 : Fin (k3_t168_loop i v474 v480).trips), ∀ (k3_h84 : k3_cond84 i v474 v480 = 1#1), ∀ a, (k3_off671 i v474 v480 k3_t168) a + S1x16.size a ≤ S256x128.size a := fun i v474 v480 k3_hw20 k3_t168 k3_h84 => k3_hw20.1.2.2.2.2.2.2.2.2.2.2.2.2.2.2.2.2.2.2.2.2.2.2.2.2.2.2.1 k3_t168 k3_h84
theorem k3_off672_inb : ∀ (i : grid3.Coords) (v474 : BitVec 32) (v480 : BitVec 32) (k3_hw20 : k3_chk20 i v474 v480) (k3_t168 : Fin (k3_t168_loop i v474 v480).trips), ∀ (k3_h84 : k3_cond84 i v474 v480 = 1#1), ∀ a, (k3_off672 i v474 v480 k3_t168) a + S1x16.size a ≤ S256x128.size a := fun i v474 v480 k3_hw20 k3_t168 k3_h84 => k3_hw20.1.2.2.2.2.2.2.2.2.2.2.2.2.2.2.2.2.2.2.2.2.2.2.2.2.2.2.2.1 k3_t168 k3_h84
theorem k3_off673_inb : ∀ (i : grid3.Coords) (v474 : BitVec 32) (v480 : BitVec 32) (k3_hw20 : k3_chk20 i v474 v480) (k3_t168 : Fin (k3_t168_loop i v474 v480).trips), ∀ (k3_h84 : k3_cond84 i v474 v480 = 1#1), ∀ a, (k3_off673 i v474 v480 k3_t168) a + S1x16.size a ≤ S256x128.size a := fun i v474 v480 k3_hw20 k3_t168 k3_h84 => k3_hw20.1.2.2.2.2.2.2.2.2.2.2.2.2.2.2.2.2.2.2.2.2.2.2.2.2.2.2.2.2.1 k3_t168 k3_h84
theorem k3_off674_inb : ∀ (i : grid3.Coords) (v474 : BitVec 32) (v480 : BitVec 32) (k3_hw20 : k3_chk20 i v474 v480) (k3_t168 : Fin (k3_t168_loop i v474 v480).trips), ∀ (k3_h84 : k3_cond84 i v474 v480 = 1#1), ∀ a, (k3_off674 i v474 v480 k3_t168) a + S1x16.size a ≤ S256x128.size a := fun i v474 v480 k3_hw20 k3_t168 k3_h84 => k3_hw20.1.2.2.2.2.2.2.2.2.2.2.2.2.2.2.2.2.2.2.2.2.2.2.2.2.2.2.2.2.2.1 k3_t168 k3_h84
theorem k3_t231_ok : ∀ (i : grid3.Coords) (v474 : BitVec 32) (v480 : BitVec 32) (k3_hw20 : k3_chk20 i v474 v480), ∀ (k3_h116 : k3_cond116 i v474 v480 = 1#1), (k3_t231_loop i v474 v480).OK := fun i v474 v480 k3_hw20 k3_h116 => k3_hw20.1.2.2.2.2.2.2.2.2.2.2.2.2.2.2.2.2.2.2.2.2.2.2.2.2.2.2.2.2.2.2.1 k3_h116
theorem k3_off923_inb : ∀ (i : grid3.Coords) (v474 : BitVec 32) (v480 : BitVec 32) (k3_hw20 : k3_chk20 i v474 v480) (k3_t231 : Fin (k3_t231_loop i v474 v480).trips), ∀ (k3_h116 : k3_cond116 i v474 v480 = 1#1), ∀ a, (k3_off923 i v474 v480 k3_t231) a + S1x16.size a ≤ S256x128.size a := fun i v474 v480 k3_hw20 k3_t231 k3_h116 => k3_hw20.1.2.2.2.2.2.2.2.2.2.2.2.2.2.2.2.2.2.2.2.2.2.2.2.2.2.2.2.2.2.2.2 k3_t231 k3_h116
theorem k3_off924_inb : ∀ (i : grid3.Coords) (v474 : BitVec 32) (v480 : BitVec 32) (k3_hw20 : k3_chk20 i v474 v480) (k3_t231 : Fin (k3_t231_loop i v474 v480).trips), ∀ (k3_h116 : k3_cond116 i v474 v480 = 1#1), ∀ a, (k3_off924 i v474 v480 k3_t231) a + S1x16.size a ≤ S256x128.size a := fun i v474 v480 k3_hw20 k3_t231 k3_h116 => k3_hw20.2.1 k3_t231 k3_h116
theorem k3_off925_inb : ∀ (i : grid3.Coords) (v474 : BitVec 32) (v480 : BitVec 32) (k3_hw20 : k3_chk20 i v474 v480) (k3_t231 : Fin (k3_t231_loop i v474 v480).trips), ∀ (k3_h116 : k3_cond116 i v474 v480 = 1#1), ∀ a, (k3_off925 i v474 v480 k3_t231) a + S1x16.size a ≤ S256x128.size a := fun i v474 v480 k3_hw20 k3_t231 k3_h116 => k3_hw20.2.2.1 k3_t231 k3_h116
theorem k3_off926_inb : ∀ (i : grid3.Coords) (v474 : BitVec 32) (v480 : BitVec 32) (k3_hw20 : k3_chk20 i v474 v480) (k3_t231 : Fin (k3_t231_loop i v474 v480).trips), ∀ (k3_h116 : k3_cond116 i v474 v480 = 1#1), ∀ a, (k3_off926 i v474 v480 k3_t231) a + S1x16.size a ≤ S256x128.size a := fun i v474 v480 k3_hw20 k3_t231 k3_h116 => k3_hw20.2.2.2.1 k3_t231 k3_h116
theorem k3_t232_ok : ∀ (i : grid3.Coords) (v474 : BitVec 32) (v480 : BitVec 32) (k3_hw20 : k3_chk20 i v474 v480), ∀ (k3_h116 : k3_cond116 i v474 v480 = 1#1), (k3_t232_loop i v474 v480).OK := fun i v474 v480 k3_hw20 k3_h116 => k3_hw20.2.2.2.2.1 k3_h116
theorem k3_off927_inb : ∀ (i : grid3.Coords) (v474 : BitVec 32) (v480 : BitVec 32) (k3_hw20 : k3_chk20 i v474 v480) (k3_t232 : Fin (k3_t232_loop i v474 v480).trips), ∀ (k3_h116 : k3_cond116 i v474 v480 = 1#1), ∀ a, (k3_off927 i v474 v480 k3_t232) a + S1x16.size a ≤ S256x128.size a := fun i v474 v480 k3_hw20 k3_t232 k3_h116 => k3_hw20.2.2.2.2.2.1 k3_t232 k3_h116
theorem k3_off928_inb : ∀ (i : grid3.Coords) (v474 : BitVec 32) (v480 : BitVec 32) (k3_hw20 : k3_chk20 i v474 v480) (k3_t232 : Fin (k3_t232_loop i v474 v480).trips), ∀ (k3_h116 : k3_cond116 i v474 v480 = 1#1), ∀ a, (k3_off928 i v474 v480 k3_t232) a + S1x16.size a ≤ S256x128.size a := fun i v474 v480 k3_hw20 k3_t232 k3_h116 => k3_hw20.2.2.2.2.2.2.1 k3_t232 k3_h116
theorem k3_off929_inb : ∀ (i : grid3.Coords) (v474 : BitVec 32) (v480 : BitVec 32) (k3_hw20 : k3_chk20 i v474 v480) (k3_t232 : Fin (k3_t232_loop i v474 v480).trips), ∀ (k3_h116 : k3_cond116 i v474 v480 = 1#1), ∀ a, (k3_off929 i v474 v480 k3_t232) a + S1x16.size a ≤ S256x128.size a := fun i v474 v480 k3_hw20 k3_t232 k3_h116 => k3_hw20.2.2.2.2.2.2.2.1 k3_t232 k3_h116
theorem k3_off930_inb : ∀ (i : grid3.Coords) (v474 : BitVec 32) (v480 : BitVec 32) (k3_hw20 : k3_chk20 i v474 v480) (k3_t232 : Fin (k3_t232_loop i v474 v480).trips), ∀ (k3_h116 : k3_cond116 i v474 v480 = 1#1), ∀ a, (k3_off930 i v474 v480 k3_t232) a + S1x16.size a ≤ S256x128.size a := fun i v474 v480 k3_hw20 k3_t232 k3_h116 => k3_hw20.2.2.2.2.2.2.2.2 k3_t232 k3_h116

@[reducible] def k3_t233_loop (i : grid3.Coords) (v486 : BitVec 32) (v491 : BitVec 32) : Scf.Loop 32 :=
  let c256_i32_1105 : BitVec 32 := 256#32
  let c0_i32_1104 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let c256_i32_1108 : BitVec 32 := 256#32
  let c0_i32_1107 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c768_i32_1106 : BitVec 32 := 768#32
  let v1688 : BitVec 32 := Scalar.subi v494 c768_i32_1106
  let v1689 : BitVec 32 := Scalar.maxsi c0_i32_1107 v1688
  let v1690 : BitVec 32 := Scalar.minsi c256_i32_1108 v1689
  let v1805 : BitVec 32 := Scalar.subi v1690 v1687
  let c1_i32_1195 : BitVec 32 := 1#32
  let v1807 : BitVec 32 := Scalar.divsi v1805 c1_i32_1195
  let v1808 : BitVec 32 := Scalar.muli v1807 c1_i32_1195
  let v1809 : BitVec 32 := Scalar.addi v1687 v1808
  let c1_i32_1196 : BitVec 32 := 1#32
  ⟨v1687, v1809, c1_i32_1196⟩
def k3_cond117 (i : grid3.Coords) (v486 : BitVec 32) (v491 : BitVec 32) : BitVec 1 :=
  let c256_i32_1108 : BitVec 32 := 256#32
  let c0_i32_1107 : BitVec 32 := 0#32
  let c1024_i32_213 : BitVec 32 := 1024#32
  let c0_i32_212 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v492 : BitVec 32 := Scalar.subi v491 v3
  let v493 : BitVec 32 := Scalar.maxsi c0_i32_212 v492
  let v494 : BitVec 32 := Scalar.minsi c1024_i32_213 v493
  let c768_i32_1106 : BitVec 32 := 768#32
  let v1688 : BitVec 32 := Scalar.subi v494 c768_i32_1106
  let v1689 : BitVec 32 := Scalar.maxsi c0_i32_1107 v1688
  let v1690 : BitVec 32 := Scalar.minsi c256_i32_1108 v1689
  let c256_i32_1105 : BitVec 32 := 256#32
  let c0_i32_1104 : BitVec 32 := 0#32
  let c1024_i32_211 : BitVec 32 := 1024#32
  let c0_i32_210 : BitVec 32 := 0#32
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let v1691 : BitVec 1 := Scalar.cmpi .sgt v1690 v1687
  let v1692 : BitVec 32 := Scalar.extui v1691
  let c0_i32_1109 : BitVec 32 := 0#32
  let v1693 : BitVec 1 := Scalar.cmpi .ne v1692 c0_i32_1109
  v1693

def k3_off931 (i : grid3.Coords) (v486 : BitVec 32) (v491 : BitVec 32) (k3_t233 : Fin (k3_t233_loop i v486 v491).trips) : Fin 2 → Nat :=
  let c256_i32_1105 : BitVec 32 := 256#32
  let c0_i32_1104 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let c1_i32_1196 : BitVec 32 := 1#32
  let arg13 : BitVec 32 := Scf.iv v1687 c1_i32_1196 k3_t233
  let v1828 : Index := Scalar.indexCast arg13
  let c0_1206 : Index := 0#32
  ![v1828.toNat, 0]
def k3_off932 (i : grid3.Coords) (v486 : BitVec 32) (v491 : BitVec 32) (k3_t233 : Fin (k3_t233_loop i v486 v491).trips) : Fin 2 → Nat :=
  let c256_i32_1105 : BitVec 32 := 256#32
  let c0_i32_1104 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let c1_i32_1196 : BitVec 32 := 1#32
  let arg13 : BitVec 32 := Scf.iv v1687 c1_i32_1196 k3_t233
  let v1832 : Index := Scalar.indexCast arg13
  let c16_1207 : Index := 16#32
  ![v1832.toNat, 16]
def k3_off933 (i : grid3.Coords) (v486 : BitVec 32) (v491 : BitVec 32) (k3_t233 : Fin (k3_t233_loop i v486 v491).trips) : Fin 2 → Nat :=
  let c256_i32_1105 : BitVec 32 := 256#32
  let c0_i32_1104 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let c1_i32_1196 : BitVec 32 := 1#32
  let arg13 : BitVec 32 := Scf.iv v1687 c1_i32_1196 k3_t233
  let v1836 : Index := Scalar.indexCast arg13
  let c32_1208 : Index := 32#32
  ![v1836.toNat, 32]
def k3_off934 (i : grid3.Coords) (v486 : BitVec 32) (v491 : BitVec 32) (k3_t233 : Fin (k3_t233_loop i v486 v491).trips) : Fin 2 → Nat :=
  let c256_i32_1105 : BitVec 32 := 256#32
  let c0_i32_1104 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let c1_i32_1196 : BitVec 32 := 1#32
  let arg13 : BitVec 32 := Scf.iv v1687 c1_i32_1196 k3_t233
  let v1840 : Index := Scalar.indexCast arg13
  let c48_1209 : Index := 48#32
  ![v1840.toNat, 48]
@[reducible] def k3_t234_loop (i : grid3.Coords) (v486 : BitVec 32) (v491 : BitVec 32) : Scf.Loop 32 :=
  let c256_i32_1105 : BitVec 32 := 256#32
  let c0_i32_1104 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let c256_i32_1108 : BitVec 32 := 256#32
  let c0_i32_1107 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c768_i32_1106 : BitVec 32 := 768#32
  let v1688 : BitVec 32 := Scalar.subi v494 c768_i32_1106
  let v1689 : BitVec 32 := Scalar.maxsi c0_i32_1107 v1688
  let v1690 : BitVec 32 := Scalar.minsi c256_i32_1108 v1689
  let v1805 : BitVec 32 := Scalar.subi v1690 v1687
  let c1_i32_1195 : BitVec 32 := 1#32
  let v1807 : BitVec 32 := Scalar.divsi v1805 c1_i32_1195
  let v1808 : BitVec 32 := Scalar.muli v1807 c1_i32_1195
  let v1809 : BitVec 32 := Scalar.addi v1687 v1808
  let v1806 : BitVec 32 := Scalar.addi v1687 v1805
  let c1_i32_1197 : BitVec 32 := 1#32
  ⟨v1809, v1806, c1_i32_1197⟩
def k3_off935 (i : grid3.Coords) (v486 : BitVec 32) (v491 : BitVec 32) (k3_t234 : Fin (k3_t234_loop i v486 v491).trips) : Fin 2 → Nat :=
  let c256_i32_1105 : BitVec 32 := 256#32
  let c0_i32_1104 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let c256_i32_1108 : BitVec 32 := 256#32
  let c0_i32_1107 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c768_i32_1106 : BitVec 32 := 768#32
  let v1688 : BitVec 32 := Scalar.subi v494 c768_i32_1106
  let v1689 : BitVec 32 := Scalar.maxsi c0_i32_1107 v1688
  let v1690 : BitVec 32 := Scalar.minsi c256_i32_1108 v1689
  let v1805 : BitVec 32 := Scalar.subi v1690 v1687
  let c1_i32_1195 : BitVec 32 := 1#32
  let v1807 : BitVec 32 := Scalar.divsi v1805 c1_i32_1195
  let v1808 : BitVec 32 := Scalar.muli v1807 c1_i32_1195
  let v1809 : BitVec 32 := Scalar.addi v1687 v1808
  let c1_i32_1197 : BitVec 32 := 1#32
  let arg13 : BitVec 32 := Scf.iv v1809 c1_i32_1197 k3_t234
  let v1828 : Index := Scalar.indexCast arg13
  let c0_1206 : Index := 0#32
  ![v1828.toNat, 0]
def k3_off936 (i : grid3.Coords) (v486 : BitVec 32) (v491 : BitVec 32) (k3_t234 : Fin (k3_t234_loop i v486 v491).trips) : Fin 2 → Nat :=
  let c256_i32_1105 : BitVec 32 := 256#32
  let c0_i32_1104 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let c256_i32_1108 : BitVec 32 := 256#32
  let c0_i32_1107 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c768_i32_1106 : BitVec 32 := 768#32
  let v1688 : BitVec 32 := Scalar.subi v494 c768_i32_1106
  let v1689 : BitVec 32 := Scalar.maxsi c0_i32_1107 v1688
  let v1690 : BitVec 32 := Scalar.minsi c256_i32_1108 v1689
  let v1805 : BitVec 32 := Scalar.subi v1690 v1687
  let c1_i32_1195 : BitVec 32 := 1#32
  let v1807 : BitVec 32 := Scalar.divsi v1805 c1_i32_1195
  let v1808 : BitVec 32 := Scalar.muli v1807 c1_i32_1195
  let v1809 : BitVec 32 := Scalar.addi v1687 v1808
  let c1_i32_1197 : BitVec 32 := 1#32
  let arg13 : BitVec 32 := Scf.iv v1809 c1_i32_1197 k3_t234
  let v1832 : Index := Scalar.indexCast arg13
  let c16_1207 : Index := 16#32
  ![v1832.toNat, 16]
def k3_off937 (i : grid3.Coords) (v486 : BitVec 32) (v491 : BitVec 32) (k3_t234 : Fin (k3_t234_loop i v486 v491).trips) : Fin 2 → Nat :=
  let c256_i32_1105 : BitVec 32 := 256#32
  let c0_i32_1104 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let c256_i32_1108 : BitVec 32 := 256#32
  let c0_i32_1107 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c768_i32_1106 : BitVec 32 := 768#32
  let v1688 : BitVec 32 := Scalar.subi v494 c768_i32_1106
  let v1689 : BitVec 32 := Scalar.maxsi c0_i32_1107 v1688
  let v1690 : BitVec 32 := Scalar.minsi c256_i32_1108 v1689
  let v1805 : BitVec 32 := Scalar.subi v1690 v1687
  let c1_i32_1195 : BitVec 32 := 1#32
  let v1807 : BitVec 32 := Scalar.divsi v1805 c1_i32_1195
  let v1808 : BitVec 32 := Scalar.muli v1807 c1_i32_1195
  let v1809 : BitVec 32 := Scalar.addi v1687 v1808
  let c1_i32_1197 : BitVec 32 := 1#32
  let arg13 : BitVec 32 := Scf.iv v1809 c1_i32_1197 k3_t234
  let v1836 : Index := Scalar.indexCast arg13
  let c32_1208 : Index := 32#32
  ![v1836.toNat, 32]
def k3_off938 (i : grid3.Coords) (v486 : BitVec 32) (v491 : BitVec 32) (k3_t234 : Fin (k3_t234_loop i v486 v491).trips) : Fin 2 → Nat :=
  let c256_i32_1105 : BitVec 32 := 256#32
  let c0_i32_1104 : BitVec 32 := 0#32
  let c1024_i32_211 : BitVec 32 := 1024#32
  let c0_i32_210 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v487 : BitVec 32 := Scalar.subi v486 v3
  let v488 : BitVec 32 := Scalar.maxsi c0_i32_210 v487
  let v489 : BitVec 32 := Scalar.minsi c1024_i32_211 v488
  let c768_i32_1103 : BitVec 32 := 768#32
  let v1685 : BitVec 32 := Scalar.subi v489 c768_i32_1103
  let v1686 : BitVec 32 := Scalar.maxsi c0_i32_1104 v1685
  let v1687 : BitVec 32 := Scalar.minsi c256_i32_1105 v1686
  let c256_i32_1108 : BitVec 32 := 256#32
  let c0_i32_1107 : BitVec 32 := 0#32
  let c1024_i32_213 : BitVec 32 := 1024#32
  let c0_i32_212 : BitVec 32 := 0#32
  let v492 : BitVec 32 := Scalar.subi v491 v3
  let v493 : BitVec 32 := Scalar.maxsi c0_i32_212 v492
  let v494 : BitVec 32 := Scalar.minsi c1024_i32_213 v493
  let c768_i32_1106 : BitVec 32 := 768#32
  let v1688 : BitVec 32 := Scalar.subi v494 c768_i32_1106
  let v1689 : BitVec 32 := Scalar.maxsi c0_i32_1107 v1688
  let v1690 : BitVec 32 := Scalar.minsi c256_i32_1108 v1689
  let v1805 : BitVec 32 := Scalar.subi v1690 v1687
  let c1_i32_1195 : BitVec 32 := 1#32
  let v1807 : BitVec 32 := Scalar.divsi v1805 c1_i32_1195
  let v1808 : BitVec 32 := Scalar.muli v1807 c1_i32_1195
  let v1809 : BitVec 32 := Scalar.addi v1687 v1808
  let c1_i32_1197 : BitVec 32 := 1#32
  let arg13 : BitVec 32 := Scf.iv v1809 c1_i32_1197 k3_t234
  let v1840 : Index := Scalar.indexCast arg13
  let c48_1209 : Index := 48#32
  ![v1840.toNat, 48]

def k3_chk21_0 (i : grid3.Coords) (v486 : BitVec 32) (v491 : BitVec 32) : Prop :=
  (∀ (k3_h21 : k3_cond21 i v486 v491 = 1#1), (k3_t41_loop i v486 v491).OK) ∧
  (∀ k3_t41 : Fin (k3_t41_loop i v486 v491).trips, ∀ (k3_h21 : k3_cond21 i v486 v491 = 1#1), ∀ a, (k3_off162 i v486 v491 k3_t41) a + S1x16.size a ≤ S256x128.size a) ∧
  (∀ k3_t41 : Fin (k3_t41_loop i v486 v491).trips, ∀ (k3_h21 : k3_cond21 i v486 v491 = 1#1), ∀ a, (k3_off163 i v486 v491 k3_t41) a + S1x16.size a ≤ S256x128.size a) ∧
  (∀ k3_t41 : Fin (k3_t41_loop i v486 v491).trips, ∀ (k3_h21 : k3_cond21 i v486 v491 = 1#1), ∀ a, (k3_off164 i v486 v491 k3_t41) a + S1x16.size a ≤ S256x128.size a) ∧
  (∀ k3_t41 : Fin (k3_t41_loop i v486 v491).trips, ∀ (k3_h21 : k3_cond21 i v486 v491 = 1#1), ∀ a, (k3_off165 i v486 v491 k3_t41) a + S1x16.size a ≤ S256x128.size a) ∧
  (∀ (k3_h21 : k3_cond21 i v486 v491 = 1#1), (k3_t42_loop i v486 v491).OK) ∧
  (∀ k3_t42 : Fin (k3_t42_loop i v486 v491).trips, ∀ (k3_h21 : k3_cond21 i v486 v491 = 1#1), ∀ a, (k3_off166 i v486 v491 k3_t42) a + S1x16.size a ≤ S256x128.size a) ∧
  (∀ k3_t42 : Fin (k3_t42_loop i v486 v491).trips, ∀ (k3_h21 : k3_cond21 i v486 v491 = 1#1), ∀ a, (k3_off167 i v486 v491 k3_t42) a + S1x16.size a ≤ S256x128.size a) ∧
  (∀ k3_t42 : Fin (k3_t42_loop i v486 v491).trips, ∀ (k3_h21 : k3_cond21 i v486 v491 = 1#1), ∀ a, (k3_off168 i v486 v491 k3_t42) a + S1x16.size a ≤ S256x128.size a) ∧
  (∀ k3_t42 : Fin (k3_t42_loop i v486 v491).trips, ∀ (k3_h21 : k3_cond21 i v486 v491 = 1#1), ∀ a, (k3_off169 i v486 v491 k3_t42) a + S1x16.size a ≤ S256x128.size a) ∧
  (∀ (k3_h53 : k3_cond53 i v486 v491 = 1#1), (k3_t105_loop i v486 v491).OK) ∧
  (∀ k3_t105 : Fin (k3_t105_loop i v486 v491).trips, ∀ (k3_h53 : k3_cond53 i v486 v491 = 1#1), ∀ a, (k3_off419 i v486 v491 k3_t105) a + S1x16.size a ≤ S256x128.size a) ∧
  (∀ k3_t105 : Fin (k3_t105_loop i v486 v491).trips, ∀ (k3_h53 : k3_cond53 i v486 v491 = 1#1), ∀ a, (k3_off420 i v486 v491 k3_t105) a + S1x16.size a ≤ S256x128.size a) ∧
  (∀ k3_t105 : Fin (k3_t105_loop i v486 v491).trips, ∀ (k3_h53 : k3_cond53 i v486 v491 = 1#1), ∀ a, (k3_off421 i v486 v491 k3_t105) a + S1x16.size a ≤ S256x128.size a) ∧
  (∀ k3_t105 : Fin (k3_t105_loop i v486 v491).trips, ∀ (k3_h53 : k3_cond53 i v486 v491 = 1#1), ∀ a, (k3_off422 i v486 v491 k3_t105) a + S1x16.size a ≤ S256x128.size a) ∧
  (∀ (k3_h53 : k3_cond53 i v486 v491 = 1#1), (k3_t106_loop i v486 v491).OK) ∧
  (∀ k3_t106 : Fin (k3_t106_loop i v486 v491).trips, ∀ (k3_h53 : k3_cond53 i v486 v491 = 1#1), ∀ a, (k3_off423 i v486 v491 k3_t106) a + S1x16.size a ≤ S256x128.size a) ∧
  (∀ k3_t106 : Fin (k3_t106_loop i v486 v491).trips, ∀ (k3_h53 : k3_cond53 i v486 v491 = 1#1), ∀ a, (k3_off424 i v486 v491 k3_t106) a + S1x16.size a ≤ S256x128.size a) ∧
  (∀ k3_t106 : Fin (k3_t106_loop i v486 v491).trips, ∀ (k3_h53 : k3_cond53 i v486 v491 = 1#1), ∀ a, (k3_off425 i v486 v491 k3_t106) a + S1x16.size a ≤ S256x128.size a) ∧
  (∀ k3_t106 : Fin (k3_t106_loop i v486 v491).trips, ∀ (k3_h53 : k3_cond53 i v486 v491 = 1#1), ∀ a, (k3_off426 i v486 v491 k3_t106) a + S1x16.size a ≤ S256x128.size a) ∧
  (∀ (k3_h85 : k3_cond85 i v486 v491 = 1#1), (k3_t169_loop i v486 v491).OK) ∧
  (∀ k3_t169 : Fin (k3_t169_loop i v486 v491).trips, ∀ (k3_h85 : k3_cond85 i v486 v491 = 1#1), ∀ a, (k3_off675 i v486 v491 k3_t169) a + S1x16.size a ≤ S256x128.size a) ∧
  (∀ k3_t169 : Fin (k3_t169_loop i v486 v491).trips, ∀ (k3_h85 : k3_cond85 i v486 v491 = 1#1), ∀ a, (k3_off676 i v486 v491 k3_t169) a + S1x16.size a ≤ S256x128.size a) ∧
  (∀ k3_t169 : Fin (k3_t169_loop i v486 v491).trips, ∀ (k3_h85 : k3_cond85 i v486 v491 = 1#1), ∀ a, (k3_off677 i v486 v491 k3_t169) a + S1x16.size a ≤ S256x128.size a) ∧
  (∀ k3_t169 : Fin (k3_t169_loop i v486 v491).trips, ∀ (k3_h85 : k3_cond85 i v486 v491 = 1#1), ∀ a, (k3_off678 i v486 v491 k3_t169) a + S1x16.size a ≤ S256x128.size a) ∧
  (∀ (k3_h85 : k3_cond85 i v486 v491 = 1#1), (k3_t170_loop i v486 v491).OK) ∧
  (∀ k3_t170 : Fin (k3_t170_loop i v486 v491).trips, ∀ (k3_h85 : k3_cond85 i v486 v491 = 1#1), ∀ a, (k3_off679 i v486 v491 k3_t170) a + S1x16.size a ≤ S256x128.size a) ∧
  (∀ k3_t170 : Fin (k3_t170_loop i v486 v491).trips, ∀ (k3_h85 : k3_cond85 i v486 v491 = 1#1), ∀ a, (k3_off680 i v486 v491 k3_t170) a + S1x16.size a ≤ S256x128.size a) ∧
  (∀ k3_t170 : Fin (k3_t170_loop i v486 v491).trips, ∀ (k3_h85 : k3_cond85 i v486 v491 = 1#1), ∀ a, (k3_off681 i v486 v491 k3_t170) a + S1x16.size a ≤ S256x128.size a) ∧
  (∀ k3_t170 : Fin (k3_t170_loop i v486 v491).trips, ∀ (k3_h85 : k3_cond85 i v486 v491 = 1#1), ∀ a, (k3_off682 i v486 v491 k3_t170) a + S1x16.size a ≤ S256x128.size a) ∧
  (∀ (k3_h117 : k3_cond117 i v486 v491 = 1#1), (k3_t233_loop i v486 v491).OK) ∧
  (∀ k3_t233 : Fin (k3_t233_loop i v486 v491).trips, ∀ (k3_h117 : k3_cond117 i v486 v491 = 1#1), ∀ a, (k3_off931 i v486 v491 k3_t233) a + S1x16.size a ≤ S256x128.size a)
def k3_chk21_1 (i : grid3.Coords) (v486 : BitVec 32) (v491 : BitVec 32) : Prop :=
  (∀ k3_t233 : Fin (k3_t233_loop i v486 v491).trips, ∀ (k3_h117 : k3_cond117 i v486 v491 = 1#1), ∀ a, (k3_off932 i v486 v491 k3_t233) a + S1x16.size a ≤ S256x128.size a) ∧
  (∀ k3_t233 : Fin (k3_t233_loop i v486 v491).trips, ∀ (k3_h117 : k3_cond117 i v486 v491 = 1#1), ∀ a, (k3_off933 i v486 v491 k3_t233) a + S1x16.size a ≤ S256x128.size a) ∧
  (∀ k3_t233 : Fin (k3_t233_loop i v486 v491).trips, ∀ (k3_h117 : k3_cond117 i v486 v491 = 1#1), ∀ a, (k3_off934 i v486 v491 k3_t233) a + S1x16.size a ≤ S256x128.size a) ∧
  (∀ (k3_h117 : k3_cond117 i v486 v491 = 1#1), (k3_t234_loop i v486 v491).OK) ∧
  (∀ k3_t234 : Fin (k3_t234_loop i v486 v491).trips, ∀ (k3_h117 : k3_cond117 i v486 v491 = 1#1), ∀ a, (k3_off935 i v486 v491 k3_t234) a + S1x16.size a ≤ S256x128.size a) ∧
  (∀ k3_t234 : Fin (k3_t234_loop i v486 v491).trips, ∀ (k3_h117 : k3_cond117 i v486 v491 = 1#1), ∀ a, (k3_off936 i v486 v491 k3_t234) a + S1x16.size a ≤ S256x128.size a) ∧
  (∀ k3_t234 : Fin (k3_t234_loop i v486 v491).trips, ∀ (k3_h117 : k3_cond117 i v486 v491 = 1#1), ∀ a, (k3_off937 i v486 v491 k3_t234) a + S1x16.size a ≤ S256x128.size a) ∧
  (∀ k3_t234 : Fin (k3_t234_loop i v486 v491).trips, ∀ (k3_h117 : k3_cond117 i v486 v491 = 1#1), ∀ a, (k3_off938 i v486 v491 k3_t234) a + S1x16.size a ≤ S256x128.size a)
def k3_chk21 (i : grid3.Coords) (v486 : BitVec 32) (v491 : BitVec 32) : Prop :=
  k3_chk21_0 i v486 v491 ∧
  k3_chk21_1 i v486 v491
theorem k3_t41_ok : ∀ (i : grid3.Coords) (v486 : BitVec 32) (v491 : BitVec 32) (k3_hw21 : k3_chk21 i v486 v491), ∀ (k3_h21 : k3_cond21 i v486 v491 = 1#1), (k3_t41_loop i v486 v491).OK := fun i v486 v491 k3_hw21 k3_h21 => k3_hw21.1.1 k3_h21
theorem k3_off162_inb : ∀ (i : grid3.Coords) (v486 : BitVec 32) (v491 : BitVec 32) (k3_hw21 : k3_chk21 i v486 v491) (k3_t41 : Fin (k3_t41_loop i v486 v491).trips), ∀ (k3_h21 : k3_cond21 i v486 v491 = 1#1), ∀ a, (k3_off162 i v486 v491 k3_t41) a + S1x16.size a ≤ S256x128.size a := fun i v486 v491 k3_hw21 k3_t41 k3_h21 => k3_hw21.1.2.1 k3_t41 k3_h21
theorem k3_off163_inb : ∀ (i : grid3.Coords) (v486 : BitVec 32) (v491 : BitVec 32) (k3_hw21 : k3_chk21 i v486 v491) (k3_t41 : Fin (k3_t41_loop i v486 v491).trips), ∀ (k3_h21 : k3_cond21 i v486 v491 = 1#1), ∀ a, (k3_off163 i v486 v491 k3_t41) a + S1x16.size a ≤ S256x128.size a := fun i v486 v491 k3_hw21 k3_t41 k3_h21 => k3_hw21.1.2.2.1 k3_t41 k3_h21
theorem k3_off164_inb : ∀ (i : grid3.Coords) (v486 : BitVec 32) (v491 : BitVec 32) (k3_hw21 : k3_chk21 i v486 v491) (k3_t41 : Fin (k3_t41_loop i v486 v491).trips), ∀ (k3_h21 : k3_cond21 i v486 v491 = 1#1), ∀ a, (k3_off164 i v486 v491 k3_t41) a + S1x16.size a ≤ S256x128.size a := fun i v486 v491 k3_hw21 k3_t41 k3_h21 => k3_hw21.1.2.2.2.1 k3_t41 k3_h21
theorem k3_off165_inb : ∀ (i : grid3.Coords) (v486 : BitVec 32) (v491 : BitVec 32) (k3_hw21 : k3_chk21 i v486 v491) (k3_t41 : Fin (k3_t41_loop i v486 v491).trips), ∀ (k3_h21 : k3_cond21 i v486 v491 = 1#1), ∀ a, (k3_off165 i v486 v491 k3_t41) a + S1x16.size a ≤ S256x128.size a := fun i v486 v491 k3_hw21 k3_t41 k3_h21 => k3_hw21.1.2.2.2.2.1 k3_t41 k3_h21
theorem k3_t42_ok : ∀ (i : grid3.Coords) (v486 : BitVec 32) (v491 : BitVec 32) (k3_hw21 : k3_chk21 i v486 v491), ∀ (k3_h21 : k3_cond21 i v486 v491 = 1#1), (k3_t42_loop i v486 v491).OK := fun i v486 v491 k3_hw21 k3_h21 => k3_hw21.1.2.2.2.2.2.1 k3_h21
theorem k3_off166_inb : ∀ (i : grid3.Coords) (v486 : BitVec 32) (v491 : BitVec 32) (k3_hw21 : k3_chk21 i v486 v491) (k3_t42 : Fin (k3_t42_loop i v486 v491).trips), ∀ (k3_h21 : k3_cond21 i v486 v491 = 1#1), ∀ a, (k3_off166 i v486 v491 k3_t42) a + S1x16.size a ≤ S256x128.size a := fun i v486 v491 k3_hw21 k3_t42 k3_h21 => k3_hw21.1.2.2.2.2.2.2.1 k3_t42 k3_h21
theorem k3_off167_inb : ∀ (i : grid3.Coords) (v486 : BitVec 32) (v491 : BitVec 32) (k3_hw21 : k3_chk21 i v486 v491) (k3_t42 : Fin (k3_t42_loop i v486 v491).trips), ∀ (k3_h21 : k3_cond21 i v486 v491 = 1#1), ∀ a, (k3_off167 i v486 v491 k3_t42) a + S1x16.size a ≤ S256x128.size a := fun i v486 v491 k3_hw21 k3_t42 k3_h21 => k3_hw21.1.2.2.2.2.2.2.2.1 k3_t42 k3_h21
theorem k3_off168_inb : ∀ (i : grid3.Coords) (v486 : BitVec 32) (v491 : BitVec 32) (k3_hw21 : k3_chk21 i v486 v491) (k3_t42 : Fin (k3_t42_loop i v486 v491).trips), ∀ (k3_h21 : k3_cond21 i v486 v491 = 1#1), ∀ a, (k3_off168 i v486 v491 k3_t42) a + S1x16.size a ≤ S256x128.size a := fun i v486 v491 k3_hw21 k3_t42 k3_h21 => k3_hw21.1.2.2.2.2.2.2.2.2.1 k3_t42 k3_h21
theorem k3_off169_inb : ∀ (i : grid3.Coords) (v486 : BitVec 32) (v491 : BitVec 32) (k3_hw21 : k3_chk21 i v486 v491) (k3_t42 : Fin (k3_t42_loop i v486 v491).trips), ∀ (k3_h21 : k3_cond21 i v486 v491 = 1#1), ∀ a, (k3_off169 i v486 v491 k3_t42) a + S1x16.size a ≤ S256x128.size a := fun i v486 v491 k3_hw21 k3_t42 k3_h21 => k3_hw21.1.2.2.2.2.2.2.2.2.2.1 k3_t42 k3_h21
theorem k3_t105_ok : ∀ (i : grid3.Coords) (v486 : BitVec 32) (v491 : BitVec 32) (k3_hw21 : k3_chk21 i v486 v491), ∀ (k3_h53 : k3_cond53 i v486 v491 = 1#1), (k3_t105_loop i v486 v491).OK := fun i v486 v491 k3_hw21 k3_h53 => k3_hw21.1.2.2.2.2.2.2.2.2.2.2.1 k3_h53
theorem k3_off419_inb : ∀ (i : grid3.Coords) (v486 : BitVec 32) (v491 : BitVec 32) (k3_hw21 : k3_chk21 i v486 v491) (k3_t105 : Fin (k3_t105_loop i v486 v491).trips), ∀ (k3_h53 : k3_cond53 i v486 v491 = 1#1), ∀ a, (k3_off419 i v486 v491 k3_t105) a + S1x16.size a ≤ S256x128.size a := fun i v486 v491 k3_hw21 k3_t105 k3_h53 => k3_hw21.1.2.2.2.2.2.2.2.2.2.2.2.1 k3_t105 k3_h53
theorem k3_off420_inb : ∀ (i : grid3.Coords) (v486 : BitVec 32) (v491 : BitVec 32) (k3_hw21 : k3_chk21 i v486 v491) (k3_t105 : Fin (k3_t105_loop i v486 v491).trips), ∀ (k3_h53 : k3_cond53 i v486 v491 = 1#1), ∀ a, (k3_off420 i v486 v491 k3_t105) a + S1x16.size a ≤ S256x128.size a := fun i v486 v491 k3_hw21 k3_t105 k3_h53 => k3_hw21.1.2.2.2.2.2.2.2.2.2.2.2.2.1 k3_t105 k3_h53
theorem k3_off421_inb : ∀ (i : grid3.Coords) (v486 : BitVec 32) (v491 : BitVec 32) (k3_hw21 : k3_chk21 i v486 v491) (k3_t105 : Fin (k3_t105_loop i v486 v491).trips), ∀ (k3_h53 : k3_cond53 i v486 v491 = 1#1), ∀ a, (k3_off421 i v486 v491 k3_t105) a + S1x16.size a ≤ S256x128.size a := fun i v486 v491 k3_hw21 k3_t105 k3_h53 => k3_hw21.1.2.2.2.2.2.2.2.2.2.2.2.2.2.1 k3_t105 k3_h53
theorem k3_off422_inb : ∀ (i : grid3.Coords) (v486 : BitVec 32) (v491 : BitVec 32) (k3_hw21 : k3_chk21 i v486 v491) (k3_t105 : Fin (k3_t105_loop i v486 v491).trips), ∀ (k3_h53 : k3_cond53 i v486 v491 = 1#1), ∀ a, (k3_off422 i v486 v491 k3_t105) a + S1x16.size a ≤ S256x128.size a := fun i v486 v491 k3_hw21 k3_t105 k3_h53 => k3_hw21.1.2.2.2.2.2.2.2.2.2.2.2.2.2.2.1 k3_t105 k3_h53
theorem k3_t106_ok : ∀ (i : grid3.Coords) (v486 : BitVec 32) (v491 : BitVec 32) (k3_hw21 : k3_chk21 i v486 v491), ∀ (k3_h53 : k3_cond53 i v486 v491 = 1#1), (k3_t106_loop i v486 v491).OK := fun i v486 v491 k3_hw21 k3_h53 => k3_hw21.1.2.2.2.2.2.2.2.2.2.2.2.2.2.2.2.1 k3_h53
theorem k3_off423_inb : ∀ (i : grid3.Coords) (v486 : BitVec 32) (v491 : BitVec 32) (k3_hw21 : k3_chk21 i v486 v491) (k3_t106 : Fin (k3_t106_loop i v486 v491).trips), ∀ (k3_h53 : k3_cond53 i v486 v491 = 1#1), ∀ a, (k3_off423 i v486 v491 k3_t106) a + S1x16.size a ≤ S256x128.size a := fun i v486 v491 k3_hw21 k3_t106 k3_h53 => k3_hw21.1.2.2.2.2.2.2.2.2.2.2.2.2.2.2.2.2.1 k3_t106 k3_h53
theorem k3_off424_inb : ∀ (i : grid3.Coords) (v486 : BitVec 32) (v491 : BitVec 32) (k3_hw21 : k3_chk21 i v486 v491) (k3_t106 : Fin (k3_t106_loop i v486 v491).trips), ∀ (k3_h53 : k3_cond53 i v486 v491 = 1#1), ∀ a, (k3_off424 i v486 v491 k3_t106) a + S1x16.size a ≤ S256x128.size a := fun i v486 v491 k3_hw21 k3_t106 k3_h53 => k3_hw21.1.2.2.2.2.2.2.2.2.2.2.2.2.2.2.2.2.2.1 k3_t106 k3_h53
theorem k3_off425_inb : ∀ (i : grid3.Coords) (v486 : BitVec 32) (v491 : BitVec 32) (k3_hw21 : k3_chk21 i v486 v491) (k3_t106 : Fin (k3_t106_loop i v486 v491).trips), ∀ (k3_h53 : k3_cond53 i v486 v491 = 1#1), ∀ a, (k3_off425 i v486 v491 k3_t106) a + S1x16.size a ≤ S256x128.size a := fun i v486 v491 k3_hw21 k3_t106 k3_h53 => k3_hw21.1.2.2.2.2.2.2.2.2.2.2.2.2.2.2.2.2.2.2.1 k3_t106 k3_h53
theorem k3_off426_inb : ∀ (i : grid3.Coords) (v486 : BitVec 32) (v491 : BitVec 32) (k3_hw21 : k3_chk21 i v486 v491) (k3_t106 : Fin (k3_t106_loop i v486 v491).trips), ∀ (k3_h53 : k3_cond53 i v486 v491 = 1#1), ∀ a, (k3_off426 i v486 v491 k3_t106) a + S1x16.size a ≤ S256x128.size a := fun i v486 v491 k3_hw21 k3_t106 k3_h53 => k3_hw21.1.2.2.2.2.2.2.2.2.2.2.2.2.2.2.2.2.2.2.2.1 k3_t106 k3_h53
theorem k3_t169_ok : ∀ (i : grid3.Coords) (v486 : BitVec 32) (v491 : BitVec 32) (k3_hw21 : k3_chk21 i v486 v491), ∀ (k3_h85 : k3_cond85 i v486 v491 = 1#1), (k3_t169_loop i v486 v491).OK := fun i v486 v491 k3_hw21 k3_h85 => k3_hw21.1.2.2.2.2.2.2.2.2.2.2.2.2.2.2.2.2.2.2.2.2.1 k3_h85
theorem k3_off675_inb : ∀ (i : grid3.Coords) (v486 : BitVec 32) (v491 : BitVec 32) (k3_hw21 : k3_chk21 i v486 v491) (k3_t169 : Fin (k3_t169_loop i v486 v491).trips), ∀ (k3_h85 : k3_cond85 i v486 v491 = 1#1), ∀ a, (k3_off675 i v486 v491 k3_t169) a + S1x16.size a ≤ S256x128.size a := fun i v486 v491 k3_hw21 k3_t169 k3_h85 => k3_hw21.1.2.2.2.2.2.2.2.2.2.2.2.2.2.2.2.2.2.2.2.2.2.1 k3_t169 k3_h85
theorem k3_off676_inb : ∀ (i : grid3.Coords) (v486 : BitVec 32) (v491 : BitVec 32) (k3_hw21 : k3_chk21 i v486 v491) (k3_t169 : Fin (k3_t169_loop i v486 v491).trips), ∀ (k3_h85 : k3_cond85 i v486 v491 = 1#1), ∀ a, (k3_off676 i v486 v491 k3_t169) a + S1x16.size a ≤ S256x128.size a := fun i v486 v491 k3_hw21 k3_t169 k3_h85 => k3_hw21.1.2.2.2.2.2.2.2.2.2.2.2.2.2.2.2.2.2.2.2.2.2.2.1 k3_t169 k3_h85
theorem k3_off677_inb : ∀ (i : grid3.Coords) (v486 : BitVec 32) (v491 : BitVec 32) (k3_hw21 : k3_chk21 i v486 v491) (k3_t169 : Fin (k3_t169_loop i v486 v491).trips), ∀ (k3_h85 : k3_cond85 i v486 v491 = 1#1), ∀ a, (k3_off677 i v486 v491 k3_t169) a + S1x16.size a ≤ S256x128.size a := fun i v486 v491 k3_hw21 k3_t169 k3_h85 => k3_hw21.1.2.2.2.2.2.2.2.2.2.2.2.2.2.2.2.2.2.2.2.2.2.2.2.1 k3_t169 k3_h85
theorem k3_off678_inb : ∀ (i : grid3.Coords) (v486 : BitVec 32) (v491 : BitVec 32) (k3_hw21 : k3_chk21 i v486 v491) (k3_t169 : Fin (k3_t169_loop i v486 v491).trips), ∀ (k3_h85 : k3_cond85 i v486 v491 = 1#1), ∀ a, (k3_off678 i v486 v491 k3_t169) a + S1x16.size a ≤ S256x128.size a := fun i v486 v491 k3_hw21 k3_t169 k3_h85 => k3_hw21.1.2.2.2.2.2.2.2.2.2.2.2.2.2.2.2.2.2.2.2.2.2.2.2.2.1 k3_t169 k3_h85
theorem k3_t170_ok : ∀ (i : grid3.Coords) (v486 : BitVec 32) (v491 : BitVec 32) (k3_hw21 : k3_chk21 i v486 v491), ∀ (k3_h85 : k3_cond85 i v486 v491 = 1#1), (k3_t170_loop i v486 v491).OK := fun i v486 v491 k3_hw21 k3_h85 => k3_hw21.1.2.2.2.2.2.2.2.2.2.2.2.2.2.2.2.2.2.2.2.2.2.2.2.2.2.1 k3_h85
theorem k3_off679_inb : ∀ (i : grid3.Coords) (v486 : BitVec 32) (v491 : BitVec 32) (k3_hw21 : k3_chk21 i v486 v491) (k3_t170 : Fin (k3_t170_loop i v486 v491).trips), ∀ (k3_h85 : k3_cond85 i v486 v491 = 1#1), ∀ a, (k3_off679 i v486 v491 k3_t170) a + S1x16.size a ≤ S256x128.size a := fun i v486 v491 k3_hw21 k3_t170 k3_h85 => k3_hw21.1.2.2.2.2.2.2.2.2.2.2.2.2.2.2.2.2.2.2.2.2.2.2.2.2.2.2.1 k3_t170 k3_h85
theorem k3_off680_inb : ∀ (i : grid3.Coords) (v486 : BitVec 32) (v491 : BitVec 32) (k3_hw21 : k3_chk21 i v486 v491) (k3_t170 : Fin (k3_t170_loop i v486 v491).trips), ∀ (k3_h85 : k3_cond85 i v486 v491 = 1#1), ∀ a, (k3_off680 i v486 v491 k3_t170) a + S1x16.size a ≤ S256x128.size a := fun i v486 v491 k3_hw21 k3_t170 k3_h85 => k3_hw21.1.2.2.2.2.2.2.2.2.2.2.2.2.2.2.2.2.2.2.2.2.2.2.2.2.2.2.2.1 k3_t170 k3_h85
theorem k3_off681_inb : ∀ (i : grid3.Coords) (v486 : BitVec 32) (v491 : BitVec 32) (k3_hw21 : k3_chk21 i v486 v491) (k3_t170 : Fin (k3_t170_loop i v486 v491).trips), ∀ (k3_h85 : k3_cond85 i v486 v491 = 1#1), ∀ a, (k3_off681 i v486 v491 k3_t170) a + S1x16.size a ≤ S256x128.size a := fun i v486 v491 k3_hw21 k3_t170 k3_h85 => k3_hw21.1.2.2.2.2.2.2.2.2.2.2.2.2.2.2.2.2.2.2.2.2.2.2.2.2.2.2.2.2.1 k3_t170 k3_h85
theorem k3_off682_inb : ∀ (i : grid3.Coords) (v486 : BitVec 32) (v491 : BitVec 32) (k3_hw21 : k3_chk21 i v486 v491) (k3_t170 : Fin (k3_t170_loop i v486 v491).trips), ∀ (k3_h85 : k3_cond85 i v486 v491 = 1#1), ∀ a, (k3_off682 i v486 v491 k3_t170) a + S1x16.size a ≤ S256x128.size a := fun i v486 v491 k3_hw21 k3_t170 k3_h85 => k3_hw21.1.2.2.2.2.2.2.2.2.2.2.2.2.2.2.2.2.2.2.2.2.2.2.2.2.2.2.2.2.2.1 k3_t170 k3_h85
theorem k3_t233_ok : ∀ (i : grid3.Coords) (v486 : BitVec 32) (v491 : BitVec 32) (k3_hw21 : k3_chk21 i v486 v491), ∀ (k3_h117 : k3_cond117 i v486 v491 = 1#1), (k3_t233_loop i v486 v491).OK := fun i v486 v491 k3_hw21 k3_h117 => k3_hw21.1.2.2.2.2.2.2.2.2.2.2.2.2.2.2.2.2.2.2.2.2.2.2.2.2.2.2.2.2.2.2.1 k3_h117
theorem k3_off931_inb : ∀ (i : grid3.Coords) (v486 : BitVec 32) (v491 : BitVec 32) (k3_hw21 : k3_chk21 i v486 v491) (k3_t233 : Fin (k3_t233_loop i v486 v491).trips), ∀ (k3_h117 : k3_cond117 i v486 v491 = 1#1), ∀ a, (k3_off931 i v486 v491 k3_t233) a + S1x16.size a ≤ S256x128.size a := fun i v486 v491 k3_hw21 k3_t233 k3_h117 => k3_hw21.1.2.2.2.2.2.2.2.2.2.2.2.2.2.2.2.2.2.2.2.2.2.2.2.2.2.2.2.2.2.2.2 k3_t233 k3_h117
theorem k3_off932_inb : ∀ (i : grid3.Coords) (v486 : BitVec 32) (v491 : BitVec 32) (k3_hw21 : k3_chk21 i v486 v491) (k3_t233 : Fin (k3_t233_loop i v486 v491).trips), ∀ (k3_h117 : k3_cond117 i v486 v491 = 1#1), ∀ a, (k3_off932 i v486 v491 k3_t233) a + S1x16.size a ≤ S256x128.size a := fun i v486 v491 k3_hw21 k3_t233 k3_h117 => k3_hw21.2.1 k3_t233 k3_h117
theorem k3_off933_inb : ∀ (i : grid3.Coords) (v486 : BitVec 32) (v491 : BitVec 32) (k3_hw21 : k3_chk21 i v486 v491) (k3_t233 : Fin (k3_t233_loop i v486 v491).trips), ∀ (k3_h117 : k3_cond117 i v486 v491 = 1#1), ∀ a, (k3_off933 i v486 v491 k3_t233) a + S1x16.size a ≤ S256x128.size a := fun i v486 v491 k3_hw21 k3_t233 k3_h117 => k3_hw21.2.2.1 k3_t233 k3_h117
theorem k3_off934_inb : ∀ (i : grid3.Coords) (v486 : BitVec 32) (v491 : BitVec 32) (k3_hw21 : k3_chk21 i v486 v491) (k3_t233 : Fin (k3_t233_loop i v486 v491).trips), ∀ (k3_h117 : k3_cond117 i v486 v491 = 1#1), ∀ a, (k3_off934 i v486 v491 k3_t233) a + S1x16.size a ≤ S256x128.size a := fun i v486 v491 k3_hw21 k3_t233 k3_h117 => k3_hw21.2.2.2.1 k3_t233 k3_h117
theorem k3_t234_ok : ∀ (i : grid3.Coords) (v486 : BitVec 32) (v491 : BitVec 32) (k3_hw21 : k3_chk21 i v486 v491), ∀ (k3_h117 : k3_cond117 i v486 v491 = 1#1), (k3_t234_loop i v486 v491).OK := fun i v486 v491 k3_hw21 k3_h117 => k3_hw21.2.2.2.2.1 k3_h117
theorem k3_off935_inb : ∀ (i : grid3.Coords) (v486 : BitVec 32) (v491 : BitVec 32) (k3_hw21 : k3_chk21 i v486 v491) (k3_t234 : Fin (k3_t234_loop i v486 v491).trips), ∀ (k3_h117 : k3_cond117 i v486 v491 = 1#1), ∀ a, (k3_off935 i v486 v491 k3_t234) a + S1x16.size a ≤ S256x128.size a := fun i v486 v491 k3_hw21 k3_t234 k3_h117 => k3_hw21.2.2.2.2.2.1 k3_t234 k3_h117
theorem k3_off936_inb : ∀ (i : grid3.Coords) (v486 : BitVec 32) (v491 : BitVec 32) (k3_hw21 : k3_chk21 i v486 v491) (k3_t234 : Fin (k3_t234_loop i v486 v491).trips), ∀ (k3_h117 : k3_cond117 i v486 v491 = 1#1), ∀ a, (k3_off936 i v486 v491 k3_t234) a + S1x16.size a ≤ S256x128.size a := fun i v486 v491 k3_hw21 k3_t234 k3_h117 => k3_hw21.2.2.2.2.2.2.1 k3_t234 k3_h117
theorem k3_off937_inb : ∀ (i : grid3.Coords) (v486 : BitVec 32) (v491 : BitVec 32) (k3_hw21 : k3_chk21 i v486 v491) (k3_t234 : Fin (k3_t234_loop i v486 v491).trips), ∀ (k3_h117 : k3_cond117 i v486 v491 = 1#1), ∀ a, (k3_off937 i v486 v491 k3_t234) a + S1x16.size a ≤ S256x128.size a := fun i v486 v491 k3_hw21 k3_t234 k3_h117 => k3_hw21.2.2.2.2.2.2.2.1 k3_t234 k3_h117
theorem k3_off938_inb : ∀ (i : grid3.Coords) (v486 : BitVec 32) (v491 : BitVec 32) (k3_hw21 : k3_chk21 i v486 v491) (k3_t234 : Fin (k3_t234_loop i v486 v491).trips), ∀ (k3_h117 : k3_cond117 i v486 v491 = 1#1), ∀ a, (k3_off938 i v486 v491 k3_t234) a + S1x16.size a ≤ S256x128.size a := fun i v486 v491 k3_hw21 k3_t234 k3_h117 => k3_hw21.2.2.2.2.2.2.2.2 k3_t234 k3_h117

@[reducible] def k3_t235_loop (i : grid3.Coords) (v496 : BitVec 32) (v502 : BitVec 32) : Scf.Loop 32 :=
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let c256_i32_1115 : BitVec 32 := 256#32
  let c0_i32_1114 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c768_i32_1113 : BitVec 32 := 768#32
  let v1697 : BitVec 32 := Scalar.subi v506 c768_i32_1113
  let v1698 : BitVec 32 := Scalar.maxsi c0_i32_1114 v1697
  let v1699 : BitVec 32 := Scalar.minsi c256_i32_1115 v1698
  let v1805 : BitVec 32 := Scalar.subi v1699 v1696
  let c1_i32_1195 : BitVec 32 := 1#32
  let v1807 : BitVec 32 := Scalar.divsi v1805 c1_i32_1195
  let v1808 : BitVec 32 := Scalar.muli v1807 c1_i32_1195
  let v1809 : BitVec 32 := Scalar.addi v1696 v1808
  let c1_i32_1196 : BitVec 32 := 1#32
  ⟨v1696, v1809, c1_i32_1196⟩
def k3_cond118 (i : grid3.Coords) (v496 : BitVec 32) (v502 : BitVec 32) : BitVec 1 :=
  let c256_i32_1115 : BitVec 32 := 256#32
  let c0_i32_1114 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v504 : BitVec 32 := Scalar.subi v503 v3
  let v505 : BitVec 32 := Scalar.maxsi c0_i32_218 v504
  let v506 : BitVec 32 := Scalar.minsi c1024_i32_219 v505
  let c768_i32_1113 : BitVec 32 := 768#32
  let v1697 : BitVec 32 := Scalar.subi v506 c768_i32_1113
  let v1698 : BitVec 32 := Scalar.maxsi c0_i32_1114 v1697
  let v1699 : BitVec 32 := Scalar.minsi c256_i32_1115 v1698
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let v1700 : BitVec 1 := Scalar.cmpi .sgt v1699 v1696
  let v1701 : BitVec 32 := Scalar.extui v1700
  let c0_i32_1116 : BitVec 32 := 0#32
  let v1702 : BitVec 1 := Scalar.cmpi .ne v1701 c0_i32_1116
  v1702

def k3_off939 (i : grid3.Coords) (v496 : BitVec 32) (v502 : BitVec 32) (k3_t235 : Fin (k3_t235_loop i v496 v502).trips) : Fin 2 → Nat :=
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let c1_i32_1196 : BitVec 32 := 1#32
  let arg13 : BitVec 32 := Scf.iv v1696 c1_i32_1196 k3_t235
  let v1828 : Index := Scalar.indexCast arg13
  let c64 : Index := 64#32
  ![v1828.toNat, 64]
def k3_off940 (i : grid3.Coords) (v496 : BitVec 32) (v502 : BitVec 32) (k3_t235 : Fin (k3_t235_loop i v496 v502).trips) : Fin 2 → Nat :=
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let c1_i32_1196 : BitVec 32 := 1#32
  let arg13 : BitVec 32 := Scf.iv v1696 c1_i32_1196 k3_t235
  let v1832 : Index := Scalar.indexCast arg13
  let c80 : Index := 80#32
  ![v1832.toNat, 80]
def k3_off941 (i : grid3.Coords) (v496 : BitVec 32) (v502 : BitVec 32) (k3_t235 : Fin (k3_t235_loop i v496 v502).trips) : Fin 2 → Nat :=
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let c1_i32_1196 : BitVec 32 := 1#32
  let arg13 : BitVec 32 := Scf.iv v1696 c1_i32_1196 k3_t235
  let v1836 : Index := Scalar.indexCast arg13
  let c96 : Index := 96#32
  ![v1836.toNat, 96]
def k3_off942 (i : grid3.Coords) (v496 : BitVec 32) (v502 : BitVec 32) (k3_t235 : Fin (k3_t235_loop i v496 v502).trips) : Fin 2 → Nat :=
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let c1_i32_1196 : BitVec 32 := 1#32
  let arg13 : BitVec 32 := Scf.iv v1696 c1_i32_1196 k3_t235
  let v1840 : Index := Scalar.indexCast arg13
  let c112 : Index := 112#32
  ![v1840.toNat, 112]
@[reducible] def k3_t236_loop (i : grid3.Coords) (v496 : BitVec 32) (v502 : BitVec 32) : Scf.Loop 32 :=
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let c256_i32_1115 : BitVec 32 := 256#32
  let c0_i32_1114 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c768_i32_1113 : BitVec 32 := 768#32
  let v1697 : BitVec 32 := Scalar.subi v506 c768_i32_1113
  let v1698 : BitVec 32 := Scalar.maxsi c0_i32_1114 v1697
  let v1699 : BitVec 32 := Scalar.minsi c256_i32_1115 v1698
  let v1805 : BitVec 32 := Scalar.subi v1699 v1696
  let c1_i32_1195 : BitVec 32 := 1#32
  let v1807 : BitVec 32 := Scalar.divsi v1805 c1_i32_1195
  let v1808 : BitVec 32 := Scalar.muli v1807 c1_i32_1195
  let v1809 : BitVec 32 := Scalar.addi v1696 v1808
  let v1806 : BitVec 32 := Scalar.addi v1696 v1805
  let c1_i32_1197 : BitVec 32 := 1#32
  ⟨v1809, v1806, c1_i32_1197⟩
def k3_off943 (i : grid3.Coords) (v496 : BitVec 32) (v502 : BitVec 32) (k3_t236 : Fin (k3_t236_loop i v496 v502).trips) : Fin 2 → Nat :=
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let c256_i32_1115 : BitVec 32 := 256#32
  let c0_i32_1114 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c768_i32_1113 : BitVec 32 := 768#32
  let v1697 : BitVec 32 := Scalar.subi v506 c768_i32_1113
  let v1698 : BitVec 32 := Scalar.maxsi c0_i32_1114 v1697
  let v1699 : BitVec 32 := Scalar.minsi c256_i32_1115 v1698
  let v1805 : BitVec 32 := Scalar.subi v1699 v1696
  let c1_i32_1195 : BitVec 32 := 1#32
  let v1807 : BitVec 32 := Scalar.divsi v1805 c1_i32_1195
  let v1808 : BitVec 32 := Scalar.muli v1807 c1_i32_1195
  let v1809 : BitVec 32 := Scalar.addi v1696 v1808
  let c1_i32_1197 : BitVec 32 := 1#32
  let arg13 : BitVec 32 := Scf.iv v1809 c1_i32_1197 k3_t236
  let v1828 : Index := Scalar.indexCast arg13
  let c64 : Index := 64#32
  ![v1828.toNat, 64]
def k3_off944 (i : grid3.Coords) (v496 : BitVec 32) (v502 : BitVec 32) (k3_t236 : Fin (k3_t236_loop i v496 v502).trips) : Fin 2 → Nat :=
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let c256_i32_1115 : BitVec 32 := 256#32
  let c0_i32_1114 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c768_i32_1113 : BitVec 32 := 768#32
  let v1697 : BitVec 32 := Scalar.subi v506 c768_i32_1113
  let v1698 : BitVec 32 := Scalar.maxsi c0_i32_1114 v1697
  let v1699 : BitVec 32 := Scalar.minsi c256_i32_1115 v1698
  let v1805 : BitVec 32 := Scalar.subi v1699 v1696
  let c1_i32_1195 : BitVec 32 := 1#32
  let v1807 : BitVec 32 := Scalar.divsi v1805 c1_i32_1195
  let v1808 : BitVec 32 := Scalar.muli v1807 c1_i32_1195
  let v1809 : BitVec 32 := Scalar.addi v1696 v1808
  let c1_i32_1197 : BitVec 32 := 1#32
  let arg13 : BitVec 32 := Scf.iv v1809 c1_i32_1197 k3_t236
  let v1832 : Index := Scalar.indexCast arg13
  let c80 : Index := 80#32
  ![v1832.toNat, 80]
def k3_off945 (i : grid3.Coords) (v496 : BitVec 32) (v502 : BitVec 32) (k3_t236 : Fin (k3_t236_loop i v496 v502).trips) : Fin 2 → Nat :=
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let c256_i32_1115 : BitVec 32 := 256#32
  let c0_i32_1114 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c768_i32_1113 : BitVec 32 := 768#32
  let v1697 : BitVec 32 := Scalar.subi v506 c768_i32_1113
  let v1698 : BitVec 32 := Scalar.maxsi c0_i32_1114 v1697
  let v1699 : BitVec 32 := Scalar.minsi c256_i32_1115 v1698
  let v1805 : BitVec 32 := Scalar.subi v1699 v1696
  let c1_i32_1195 : BitVec 32 := 1#32
  let v1807 : BitVec 32 := Scalar.divsi v1805 c1_i32_1195
  let v1808 : BitVec 32 := Scalar.muli v1807 c1_i32_1195
  let v1809 : BitVec 32 := Scalar.addi v1696 v1808
  let c1_i32_1197 : BitVec 32 := 1#32
  let arg13 : BitVec 32 := Scf.iv v1809 c1_i32_1197 k3_t236
  let v1836 : Index := Scalar.indexCast arg13
  let c96 : Index := 96#32
  ![v1836.toNat, 96]
def k3_off946 (i : grid3.Coords) (v496 : BitVec 32) (v502 : BitVec 32) (k3_t236 : Fin (k3_t236_loop i v496 v502).trips) : Fin 2 → Nat :=
  let c256_i32_1112 : BitVec 32 := 256#32
  let c0_i32_1111 : BitVec 32 := 0#32
  let c1024_i32_216 : BitVec 32 := 1024#32
  let c0_i32_215 : BitVec 32 := 0#32
  let c65536_i32_214 : BitVec 32 := 65536#32
  let v497 : BitVec 32 := Scalar.subi v496 c65536_i32_214
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v498 : BitVec 32 := Scalar.subi v497 v3
  let v499 : BitVec 32 := Scalar.maxsi c0_i32_215 v498
  let v500 : BitVec 32 := Scalar.minsi c1024_i32_216 v499
  let c768_i32_1110 : BitVec 32 := 768#32
  let v1694 : BitVec 32 := Scalar.subi v500 c768_i32_1110
  let v1695 : BitVec 32 := Scalar.maxsi c0_i32_1111 v1694
  let v1696 : BitVec 32 := Scalar.minsi c256_i32_1112 v1695
  let c256_i32_1115 : BitVec 32 := 256#32
  let c0_i32_1114 : BitVec 32 := 0#32
  let c1024_i32_219 : BitVec 32 := 1024#32
  let c0_i32_218 : BitVec 32 := 0#32
  let c65536_i32_217 : BitVec 32 := 65536#32
  let v503 : BitVec 32 := Scalar.subi v502 c65536_i32_217
  let v504 : BitVec 32 := Scalar.subi v503 v3
  let v505 : BitVec 32 := Scalar.maxsi c0_i32_218 v504
  let v506 : BitVec 32 := Scalar.minsi c1024_i32_219 v505
  let c768_i32_1113 : BitVec 32 := 768#32
  let v1697 : BitVec 32 := Scalar.subi v506 c768_i32_1113
  let v1698 : BitVec 32 := Scalar.maxsi c0_i32_1114 v1697
  let v1699 : BitVec 32 := Scalar.minsi c256_i32_1115 v1698
  let v1805 : BitVec 32 := Scalar.subi v1699 v1696
  let c1_i32_1195 : BitVec 32 := 1#32
  let v1807 : BitVec 32 := Scalar.divsi v1805 c1_i32_1195
  let v1808 : BitVec 32 := Scalar.muli v1807 c1_i32_1195
  let v1809 : BitVec 32 := Scalar.addi v1696 v1808
  let c1_i32_1197 : BitVec 32 := 1#32
  let arg13 : BitVec 32 := Scf.iv v1809 c1_i32_1197 k3_t236
  let v1840 : Index := Scalar.indexCast arg13
  let c112 : Index := 112#32
  ![v1840.toNat, 112]

def k3_chk22_0 (i : grid3.Coords) (v496 : BitVec 32) (v502 : BitVec 32) : Prop :=
  (∀ (k3_h22 : k3_cond22 i v496 v502 = 1#1), (k3_t43_loop i v496 v502).OK) ∧
  (∀ k3_t43 : Fin (k3_t43_loop i v496 v502).trips, ∀ (k3_h22 : k3_cond22 i v496 v502 = 1#1), ∀ a, (k3_off170 i v496 v502 k3_t43) a + S1x16.size a ≤ S256x128.size a) ∧
  (∀ k3_t43 : Fin (k3_t43_loop i v496 v502).trips, ∀ (k3_h22 : k3_cond22 i v496 v502 = 1#1), ∀ a, (k3_off171 i v496 v502 k3_t43) a + S1x16.size a ≤ S256x128.size a) ∧
  (∀ k3_t43 : Fin (k3_t43_loop i v496 v502).trips, ∀ (k3_h22 : k3_cond22 i v496 v502 = 1#1), ∀ a, (k3_off172 i v496 v502 k3_t43) a + S1x16.size a ≤ S256x128.size a) ∧
  (∀ k3_t43 : Fin (k3_t43_loop i v496 v502).trips, ∀ (k3_h22 : k3_cond22 i v496 v502 = 1#1), ∀ a, (k3_off173 i v496 v502 k3_t43) a + S1x16.size a ≤ S256x128.size a) ∧
  (∀ (k3_h22 : k3_cond22 i v496 v502 = 1#1), (k3_t44_loop i v496 v502).OK) ∧
  (∀ k3_t44 : Fin (k3_t44_loop i v496 v502).trips, ∀ (k3_h22 : k3_cond22 i v496 v502 = 1#1), ∀ a, (k3_off174 i v496 v502 k3_t44) a + S1x16.size a ≤ S256x128.size a) ∧
  (∀ k3_t44 : Fin (k3_t44_loop i v496 v502).trips, ∀ (k3_h22 : k3_cond22 i v496 v502 = 1#1), ∀ a, (k3_off175 i v496 v502 k3_t44) a + S1x16.size a ≤ S256x128.size a) ∧
  (∀ k3_t44 : Fin (k3_t44_loop i v496 v502).trips, ∀ (k3_h22 : k3_cond22 i v496 v502 = 1#1), ∀ a, (k3_off176 i v496 v502 k3_t44) a + S1x16.size a ≤ S256x128.size a) ∧
  (∀ k3_t44 : Fin (k3_t44_loop i v496 v502).trips, ∀ (k3_h22 : k3_cond22 i v496 v502 = 1#1), ∀ a, (k3_off177 i v496 v502 k3_t44) a + S1x16.size a ≤ S256x128.size a) ∧
  (∀ (k3_h54 : k3_cond54 i v496 v502 = 1#1), (k3_t107_loop i v496 v502).OK) ∧
  (∀ k3_t107 : Fin (k3_t107_loop i v496 v502).trips, ∀ (k3_h54 : k3_cond54 i v496 v502 = 1#1), ∀ a, (k3_off427 i v496 v502 k3_t107) a + S1x16.size a ≤ S256x128.size a) ∧
  (∀ k3_t107 : Fin (k3_t107_loop i v496 v502).trips, ∀ (k3_h54 : k3_cond54 i v496 v502 = 1#1), ∀ a, (k3_off428 i v496 v502 k3_t107) a + S1x16.size a ≤ S256x128.size a) ∧
  (∀ k3_t107 : Fin (k3_t107_loop i v496 v502).trips, ∀ (k3_h54 : k3_cond54 i v496 v502 = 1#1), ∀ a, (k3_off429 i v496 v502 k3_t107) a + S1x16.size a ≤ S256x128.size a) ∧
  (∀ k3_t107 : Fin (k3_t107_loop i v496 v502).trips, ∀ (k3_h54 : k3_cond54 i v496 v502 = 1#1), ∀ a, (k3_off430 i v496 v502 k3_t107) a + S1x16.size a ≤ S256x128.size a) ∧
  (∀ (k3_h54 : k3_cond54 i v496 v502 = 1#1), (k3_t108_loop i v496 v502).OK) ∧
  (∀ k3_t108 : Fin (k3_t108_loop i v496 v502).trips, ∀ (k3_h54 : k3_cond54 i v496 v502 = 1#1), ∀ a, (k3_off431 i v496 v502 k3_t108) a + S1x16.size a ≤ S256x128.size a) ∧
  (∀ k3_t108 : Fin (k3_t108_loop i v496 v502).trips, ∀ (k3_h54 : k3_cond54 i v496 v502 = 1#1), ∀ a, (k3_off432 i v496 v502 k3_t108) a + S1x16.size a ≤ S256x128.size a) ∧
  (∀ k3_t108 : Fin (k3_t108_loop i v496 v502).trips, ∀ (k3_h54 : k3_cond54 i v496 v502 = 1#1), ∀ a, (k3_off433 i v496 v502 k3_t108) a + S1x16.size a ≤ S256x128.size a) ∧
  (∀ k3_t108 : Fin (k3_t108_loop i v496 v502).trips, ∀ (k3_h54 : k3_cond54 i v496 v502 = 1#1), ∀ a, (k3_off434 i v496 v502 k3_t108) a + S1x16.size a ≤ S256x128.size a) ∧
  (∀ (k3_h86 : k3_cond86 i v496 v502 = 1#1), (k3_t171_loop i v496 v502).OK) ∧
  (∀ k3_t171 : Fin (k3_t171_loop i v496 v502).trips, ∀ (k3_h86 : k3_cond86 i v496 v502 = 1#1), ∀ a, (k3_off683 i v496 v502 k3_t171) a + S1x16.size a ≤ S256x128.size a) ∧
  (∀ k3_t171 : Fin (k3_t171_loop i v496 v502).trips, ∀ (k3_h86 : k3_cond86 i v496 v502 = 1#1), ∀ a, (k3_off684 i v496 v502 k3_t171) a + S1x16.size a ≤ S256x128.size a) ∧
  (∀ k3_t171 : Fin (k3_t171_loop i v496 v502).trips, ∀ (k3_h86 : k3_cond86 i v496 v502 = 1#1), ∀ a, (k3_off685 i v496 v502 k3_t171) a + S1x16.size a ≤ S256x128.size a) ∧
  (∀ k3_t171 : Fin (k3_t171_loop i v496 v502).trips, ∀ (k3_h86 : k3_cond86 i v496 v502 = 1#1), ∀ a, (k3_off686 i v496 v502 k3_t171) a + S1x16.size a ≤ S256x128.size a) ∧
  (∀ (k3_h86 : k3_cond86 i v496 v502 = 1#1), (k3_t172_loop i v496 v502).OK) ∧
  (∀ k3_t172 : Fin (k3_t172_loop i v496 v502).trips, ∀ (k3_h86 : k3_cond86 i v496 v502 = 1#1), ∀ a, (k3_off687 i v496 v502 k3_t172) a + S1x16.size a ≤ S256x128.size a) ∧
  (∀ k3_t172 : Fin (k3_t172_loop i v496 v502).trips, ∀ (k3_h86 : k3_cond86 i v496 v502 = 1#1), ∀ a, (k3_off688 i v496 v502 k3_t172) a + S1x16.size a ≤ S256x128.size a) ∧
  (∀ k3_t172 : Fin (k3_t172_loop i v496 v502).trips, ∀ (k3_h86 : k3_cond86 i v496 v502 = 1#1), ∀ a, (k3_off689 i v496 v502 k3_t172) a + S1x16.size a ≤ S256x128.size a) ∧
  (∀ k3_t172 : Fin (k3_t172_loop i v496 v502).trips, ∀ (k3_h86 : k3_cond86 i v496 v502 = 1#1), ∀ a, (k3_off690 i v496 v502 k3_t172) a + S1x16.size a ≤ S256x128.size a) ∧
  (∀ (k3_h118 : k3_cond118 i v496 v502 = 1#1), (k3_t235_loop i v496 v502).OK) ∧
  (∀ k3_t235 : Fin (k3_t235_loop i v496 v502).trips, ∀ (k3_h118 : k3_cond118 i v496 v502 = 1#1), ∀ a, (k3_off939 i v496 v502 k3_t235) a + S1x16.size a ≤ S256x128.size a)
def k3_chk22_1 (i : grid3.Coords) (v496 : BitVec 32) (v502 : BitVec 32) : Prop :=
  (∀ k3_t235 : Fin (k3_t235_loop i v496 v502).trips, ∀ (k3_h118 : k3_cond118 i v496 v502 = 1#1), ∀ a, (k3_off940 i v496 v502 k3_t235) a + S1x16.size a ≤ S256x128.size a) ∧
  (∀ k3_t235 : Fin (k3_t235_loop i v496 v502).trips, ∀ (k3_h118 : k3_cond118 i v496 v502 = 1#1), ∀ a, (k3_off941 i v496 v502 k3_t235) a + S1x16.size a ≤ S256x128.size a) ∧
  (∀ k3_t235 : Fin (k3_t235_loop i v496 v502).trips, ∀ (k3_h118 : k3_cond118 i v496 v502 = 1#1), ∀ a, (k3_off942 i v496 v502 k3_t235) a + S1x16.size a ≤ S256x128.size a) ∧
  (∀ (k3_h118 : k3_cond118 i v496 v502 = 1#1), (k3_t236_loop i v496 v502).OK) ∧
  (∀ k3_t236 : Fin (k3_t236_loop i v496 v502).trips, ∀ (k3_h118 : k3_cond118 i v496 v502 = 1#1), ∀ a, (k3_off943 i v496 v502 k3_t236) a + S1x16.size a ≤ S256x128.size a) ∧
  (∀ k3_t236 : Fin (k3_t236_loop i v496 v502).trips, ∀ (k3_h118 : k3_cond118 i v496 v502 = 1#1), ∀ a, (k3_off944 i v496 v502 k3_t236) a + S1x16.size a ≤ S256x128.size a) ∧
  (∀ k3_t236 : Fin (k3_t236_loop i v496 v502).trips, ∀ (k3_h118 : k3_cond118 i v496 v502 = 1#1), ∀ a, (k3_off945 i v496 v502 k3_t236) a + S1x16.size a ≤ S256x128.size a) ∧
  (∀ k3_t236 : Fin (k3_t236_loop i v496 v502).trips, ∀ (k3_h118 : k3_cond118 i v496 v502 = 1#1), ∀ a, (k3_off946 i v496 v502 k3_t236) a + S1x16.size a ≤ S256x128.size a)
def k3_chk22 (i : grid3.Coords) (v496 : BitVec 32) (v502 : BitVec 32) : Prop :=
  k3_chk22_0 i v496 v502 ∧
  k3_chk22_1 i v496 v502
theorem k3_t43_ok : ∀ (i : grid3.Coords) (v496 : BitVec 32) (v502 : BitVec 32) (k3_hw22 : k3_chk22 i v496 v502), ∀ (k3_h22 : k3_cond22 i v496 v502 = 1#1), (k3_t43_loop i v496 v502).OK := fun i v496 v502 k3_hw22 k3_h22 => k3_hw22.1.1 k3_h22
theorem k3_off170_inb : ∀ (i : grid3.Coords) (v496 : BitVec 32) (v502 : BitVec 32) (k3_hw22 : k3_chk22 i v496 v502) (k3_t43 : Fin (k3_t43_loop i v496 v502).trips), ∀ (k3_h22 : k3_cond22 i v496 v502 = 1#1), ∀ a, (k3_off170 i v496 v502 k3_t43) a + S1x16.size a ≤ S256x128.size a := fun i v496 v502 k3_hw22 k3_t43 k3_h22 => k3_hw22.1.2.1 k3_t43 k3_h22
theorem k3_off171_inb : ∀ (i : grid3.Coords) (v496 : BitVec 32) (v502 : BitVec 32) (k3_hw22 : k3_chk22 i v496 v502) (k3_t43 : Fin (k3_t43_loop i v496 v502).trips), ∀ (k3_h22 : k3_cond22 i v496 v502 = 1#1), ∀ a, (k3_off171 i v496 v502 k3_t43) a + S1x16.size a ≤ S256x128.size a := fun i v496 v502 k3_hw22 k3_t43 k3_h22 => k3_hw22.1.2.2.1 k3_t43 k3_h22
theorem k3_off172_inb : ∀ (i : grid3.Coords) (v496 : BitVec 32) (v502 : BitVec 32) (k3_hw22 : k3_chk22 i v496 v502) (k3_t43 : Fin (k3_t43_loop i v496 v502).trips), ∀ (k3_h22 : k3_cond22 i v496 v502 = 1#1), ∀ a, (k3_off172 i v496 v502 k3_t43) a + S1x16.size a ≤ S256x128.size a := fun i v496 v502 k3_hw22 k3_t43 k3_h22 => k3_hw22.1.2.2.2.1 k3_t43 k3_h22
theorem k3_off173_inb : ∀ (i : grid3.Coords) (v496 : BitVec 32) (v502 : BitVec 32) (k3_hw22 : k3_chk22 i v496 v502) (k3_t43 : Fin (k3_t43_loop i v496 v502).trips), ∀ (k3_h22 : k3_cond22 i v496 v502 = 1#1), ∀ a, (k3_off173 i v496 v502 k3_t43) a + S1x16.size a ≤ S256x128.size a := fun i v496 v502 k3_hw22 k3_t43 k3_h22 => k3_hw22.1.2.2.2.2.1 k3_t43 k3_h22
theorem k3_t44_ok : ∀ (i : grid3.Coords) (v496 : BitVec 32) (v502 : BitVec 32) (k3_hw22 : k3_chk22 i v496 v502), ∀ (k3_h22 : k3_cond22 i v496 v502 = 1#1), (k3_t44_loop i v496 v502).OK := fun i v496 v502 k3_hw22 k3_h22 => k3_hw22.1.2.2.2.2.2.1 k3_h22
theorem k3_off174_inb : ∀ (i : grid3.Coords) (v496 : BitVec 32) (v502 : BitVec 32) (k3_hw22 : k3_chk22 i v496 v502) (k3_t44 : Fin (k3_t44_loop i v496 v502).trips), ∀ (k3_h22 : k3_cond22 i v496 v502 = 1#1), ∀ a, (k3_off174 i v496 v502 k3_t44) a + S1x16.size a ≤ S256x128.size a := fun i v496 v502 k3_hw22 k3_t44 k3_h22 => k3_hw22.1.2.2.2.2.2.2.1 k3_t44 k3_h22
theorem k3_off175_inb : ∀ (i : grid3.Coords) (v496 : BitVec 32) (v502 : BitVec 32) (k3_hw22 : k3_chk22 i v496 v502) (k3_t44 : Fin (k3_t44_loop i v496 v502).trips), ∀ (k3_h22 : k3_cond22 i v496 v502 = 1#1), ∀ a, (k3_off175 i v496 v502 k3_t44) a + S1x16.size a ≤ S256x128.size a := fun i v496 v502 k3_hw22 k3_t44 k3_h22 => k3_hw22.1.2.2.2.2.2.2.2.1 k3_t44 k3_h22
theorem k3_off176_inb : ∀ (i : grid3.Coords) (v496 : BitVec 32) (v502 : BitVec 32) (k3_hw22 : k3_chk22 i v496 v502) (k3_t44 : Fin (k3_t44_loop i v496 v502).trips), ∀ (k3_h22 : k3_cond22 i v496 v502 = 1#1), ∀ a, (k3_off176 i v496 v502 k3_t44) a + S1x16.size a ≤ S256x128.size a := fun i v496 v502 k3_hw22 k3_t44 k3_h22 => k3_hw22.1.2.2.2.2.2.2.2.2.1 k3_t44 k3_h22
theorem k3_off177_inb : ∀ (i : grid3.Coords) (v496 : BitVec 32) (v502 : BitVec 32) (k3_hw22 : k3_chk22 i v496 v502) (k3_t44 : Fin (k3_t44_loop i v496 v502).trips), ∀ (k3_h22 : k3_cond22 i v496 v502 = 1#1), ∀ a, (k3_off177 i v496 v502 k3_t44) a + S1x16.size a ≤ S256x128.size a := fun i v496 v502 k3_hw22 k3_t44 k3_h22 => k3_hw22.1.2.2.2.2.2.2.2.2.2.1 k3_t44 k3_h22
theorem k3_t107_ok : ∀ (i : grid3.Coords) (v496 : BitVec 32) (v502 : BitVec 32) (k3_hw22 : k3_chk22 i v496 v502), ∀ (k3_h54 : k3_cond54 i v496 v502 = 1#1), (k3_t107_loop i v496 v502).OK := fun i v496 v502 k3_hw22 k3_h54 => k3_hw22.1.2.2.2.2.2.2.2.2.2.2.1 k3_h54
theorem k3_off427_inb : ∀ (i : grid3.Coords) (v496 : BitVec 32) (v502 : BitVec 32) (k3_hw22 : k3_chk22 i v496 v502) (k3_t107 : Fin (k3_t107_loop i v496 v502).trips), ∀ (k3_h54 : k3_cond54 i v496 v502 = 1#1), ∀ a, (k3_off427 i v496 v502 k3_t107) a + S1x16.size a ≤ S256x128.size a := fun i v496 v502 k3_hw22 k3_t107 k3_h54 => k3_hw22.1.2.2.2.2.2.2.2.2.2.2.2.1 k3_t107 k3_h54
theorem k3_off428_inb : ∀ (i : grid3.Coords) (v496 : BitVec 32) (v502 : BitVec 32) (k3_hw22 : k3_chk22 i v496 v502) (k3_t107 : Fin (k3_t107_loop i v496 v502).trips), ∀ (k3_h54 : k3_cond54 i v496 v502 = 1#1), ∀ a, (k3_off428 i v496 v502 k3_t107) a + S1x16.size a ≤ S256x128.size a := fun i v496 v502 k3_hw22 k3_t107 k3_h54 => k3_hw22.1.2.2.2.2.2.2.2.2.2.2.2.2.1 k3_t107 k3_h54
theorem k3_off429_inb : ∀ (i : grid3.Coords) (v496 : BitVec 32) (v502 : BitVec 32) (k3_hw22 : k3_chk22 i v496 v502) (k3_t107 : Fin (k3_t107_loop i v496 v502).trips), ∀ (k3_h54 : k3_cond54 i v496 v502 = 1#1), ∀ a, (k3_off429 i v496 v502 k3_t107) a + S1x16.size a ≤ S256x128.size a := fun i v496 v502 k3_hw22 k3_t107 k3_h54 => k3_hw22.1.2.2.2.2.2.2.2.2.2.2.2.2.2.1 k3_t107 k3_h54
theorem k3_off430_inb : ∀ (i : grid3.Coords) (v496 : BitVec 32) (v502 : BitVec 32) (k3_hw22 : k3_chk22 i v496 v502) (k3_t107 : Fin (k3_t107_loop i v496 v502).trips), ∀ (k3_h54 : k3_cond54 i v496 v502 = 1#1), ∀ a, (k3_off430 i v496 v502 k3_t107) a + S1x16.size a ≤ S256x128.size a := fun i v496 v502 k3_hw22 k3_t107 k3_h54 => k3_hw22.1.2.2.2.2.2.2.2.2.2.2.2.2.2.2.1 k3_t107 k3_h54
theorem k3_t108_ok : ∀ (i : grid3.Coords) (v496 : BitVec 32) (v502 : BitVec 32) (k3_hw22 : k3_chk22 i v496 v502), ∀ (k3_h54 : k3_cond54 i v496 v502 = 1#1), (k3_t108_loop i v496 v502).OK := fun i v496 v502 k3_hw22 k3_h54 => k3_hw22.1.2.2.2.2.2.2.2.2.2.2.2.2.2.2.2.1 k3_h54
theorem k3_off431_inb : ∀ (i : grid3.Coords) (v496 : BitVec 32) (v502 : BitVec 32) (k3_hw22 : k3_chk22 i v496 v502) (k3_t108 : Fin (k3_t108_loop i v496 v502).trips), ∀ (k3_h54 : k3_cond54 i v496 v502 = 1#1), ∀ a, (k3_off431 i v496 v502 k3_t108) a + S1x16.size a ≤ S256x128.size a := fun i v496 v502 k3_hw22 k3_t108 k3_h54 => k3_hw22.1.2.2.2.2.2.2.2.2.2.2.2.2.2.2.2.2.1 k3_t108 k3_h54
theorem k3_off432_inb : ∀ (i : grid3.Coords) (v496 : BitVec 32) (v502 : BitVec 32) (k3_hw22 : k3_chk22 i v496 v502) (k3_t108 : Fin (k3_t108_loop i v496 v502).trips), ∀ (k3_h54 : k3_cond54 i v496 v502 = 1#1), ∀ a, (k3_off432 i v496 v502 k3_t108) a + S1x16.size a ≤ S256x128.size a := fun i v496 v502 k3_hw22 k3_t108 k3_h54 => k3_hw22.1.2.2.2.2.2.2.2.2.2.2.2.2.2.2.2.2.2.1 k3_t108 k3_h54
theorem k3_off433_inb : ∀ (i : grid3.Coords) (v496 : BitVec 32) (v502 : BitVec 32) (k3_hw22 : k3_chk22 i v496 v502) (k3_t108 : Fin (k3_t108_loop i v496 v502).trips), ∀ (k3_h54 : k3_cond54 i v496 v502 = 1#1), ∀ a, (k3_off433 i v496 v502 k3_t108) a + S1x16.size a ≤ S256x128.size a := fun i v496 v502 k3_hw22 k3_t108 k3_h54 => k3_hw22.1.2.2.2.2.2.2.2.2.2.2.2.2.2.2.2.2.2.2.1 k3_t108 k3_h54
theorem k3_off434_inb : ∀ (i : grid3.Coords) (v496 : BitVec 32) (v502 : BitVec 32) (k3_hw22 : k3_chk22 i v496 v502) (k3_t108 : Fin (k3_t108_loop i v496 v502).trips), ∀ (k3_h54 : k3_cond54 i v496 v502 = 1#1), ∀ a, (k3_off434 i v496 v502 k3_t108) a + S1x16.size a ≤ S256x128.size a := fun i v496 v502 k3_hw22 k3_t108 k3_h54 => k3_hw22.1.2.2.2.2.2.2.2.2.2.2.2.2.2.2.2.2.2.2.2.1 k3_t108 k3_h54
theorem k3_t171_ok : ∀ (i : grid3.Coords) (v496 : BitVec 32) (v502 : BitVec 32) (k3_hw22 : k3_chk22 i v496 v502), ∀ (k3_h86 : k3_cond86 i v496 v502 = 1#1), (k3_t171_loop i v496 v502).OK := fun i v496 v502 k3_hw22 k3_h86 => k3_hw22.1.2.2.2.2.2.2.2.2.2.2.2.2.2.2.2.2.2.2.2.2.1 k3_h86
theorem k3_off683_inb : ∀ (i : grid3.Coords) (v496 : BitVec 32) (v502 : BitVec 32) (k3_hw22 : k3_chk22 i v496 v502) (k3_t171 : Fin (k3_t171_loop i v496 v502).trips), ∀ (k3_h86 : k3_cond86 i v496 v502 = 1#1), ∀ a, (k3_off683 i v496 v502 k3_t171) a + S1x16.size a ≤ S256x128.size a := fun i v496 v502 k3_hw22 k3_t171 k3_h86 => k3_hw22.1.2.2.2.2.2.2.2.2.2.2.2.2.2.2.2.2.2.2.2.2.2.1 k3_t171 k3_h86
theorem k3_off684_inb : ∀ (i : grid3.Coords) (v496 : BitVec 32) (v502 : BitVec 32) (k3_hw22 : k3_chk22 i v496 v502) (k3_t171 : Fin (k3_t171_loop i v496 v502).trips), ∀ (k3_h86 : k3_cond86 i v496 v502 = 1#1), ∀ a, (k3_off684 i v496 v502 k3_t171) a + S1x16.size a ≤ S256x128.size a := fun i v496 v502 k3_hw22 k3_t171 k3_h86 => k3_hw22.1.2.2.2.2.2.2.2.2.2.2.2.2.2.2.2.2.2.2.2.2.2.2.1 k3_t171 k3_h86
theorem k3_off685_inb : ∀ (i : grid3.Coords) (v496 : BitVec 32) (v502 : BitVec 32) (k3_hw22 : k3_chk22 i v496 v502) (k3_t171 : Fin (k3_t171_loop i v496 v502).trips), ∀ (k3_h86 : k3_cond86 i v496 v502 = 1#1), ∀ a, (k3_off685 i v496 v502 k3_t171) a + S1x16.size a ≤ S256x128.size a := fun i v496 v502 k3_hw22 k3_t171 k3_h86 => k3_hw22.1.2.2.2.2.2.2.2.2.2.2.2.2.2.2.2.2.2.2.2.2.2.2.2.1 k3_t171 k3_h86
theorem k3_off686_inb : ∀ (i : grid3.Coords) (v496 : BitVec 32) (v502 : BitVec 32) (k3_hw22 : k3_chk22 i v496 v502) (k3_t171 : Fin (k3_t171_loop i v496 v502).trips), ∀ (k3_h86 : k3_cond86 i v496 v502 = 1#1), ∀ a, (k3_off686 i v496 v502 k3_t171) a + S1x16.size a ≤ S256x128.size a := fun i v496 v502 k3_hw22 k3_t171 k3_h86 => k3_hw22.1.2.2.2.2.2.2.2.2.2.2.2.2.2.2.2.2.2.2.2.2.2.2.2.2.1 k3_t171 k3_h86
theorem k3_t172_ok : ∀ (i : grid3.Coords) (v496 : BitVec 32) (v502 : BitVec 32) (k3_hw22 : k3_chk22 i v496 v502), ∀ (k3_h86 : k3_cond86 i v496 v502 = 1#1), (k3_t172_loop i v496 v502).OK := fun i v496 v502 k3_hw22 k3_h86 => k3_hw22.1.2.2.2.2.2.2.2.2.2.2.2.2.2.2.2.2.2.2.2.2.2.2.2.2.2.1 k3_h86
theorem k3_off687_inb : ∀ (i : grid3.Coords) (v496 : BitVec 32) (v502 : BitVec 32) (k3_hw22 : k3_chk22 i v496 v502) (k3_t172 : Fin (k3_t172_loop i v496 v502).trips), ∀ (k3_h86 : k3_cond86 i v496 v502 = 1#1), ∀ a, (k3_off687 i v496 v502 k3_t172) a + S1x16.size a ≤ S256x128.size a := fun i v496 v502 k3_hw22 k3_t172 k3_h86 => k3_hw22.1.2.2.2.2.2.2.2.2.2.2.2.2.2.2.2.2.2.2.2.2.2.2.2.2.2.2.1 k3_t172 k3_h86
theorem k3_off688_inb : ∀ (i : grid3.Coords) (v496 : BitVec 32) (v502 : BitVec 32) (k3_hw22 : k3_chk22 i v496 v502) (k3_t172 : Fin (k3_t172_loop i v496 v502).trips), ∀ (k3_h86 : k3_cond86 i v496 v502 = 1#1), ∀ a, (k3_off688 i v496 v502 k3_t172) a + S1x16.size a ≤ S256x128.size a := fun i v496 v502 k3_hw22 k3_t172 k3_h86 => k3_hw22.1.2.2.2.2.2.2.2.2.2.2.2.2.2.2.2.2.2.2.2.2.2.2.2.2.2.2.2.1 k3_t172 k3_h86
theorem k3_off689_inb : ∀ (i : grid3.Coords) (v496 : BitVec 32) (v502 : BitVec 32) (k3_hw22 : k3_chk22 i v496 v502) (k3_t172 : Fin (k3_t172_loop i v496 v502).trips), ∀ (k3_h86 : k3_cond86 i v496 v502 = 1#1), ∀ a, (k3_off689 i v496 v502 k3_t172) a + S1x16.size a ≤ S256x128.size a := fun i v496 v502 k3_hw22 k3_t172 k3_h86 => k3_hw22.1.2.2.2.2.2.2.2.2.2.2.2.2.2.2.2.2.2.2.2.2.2.2.2.2.2.2.2.2.1 k3_t172 k3_h86
theorem k3_off690_inb : ∀ (i : grid3.Coords) (v496 : BitVec 32) (v502 : BitVec 32) (k3_hw22 : k3_chk22 i v496 v502) (k3_t172 : Fin (k3_t172_loop i v496 v502).trips), ∀ (k3_h86 : k3_cond86 i v496 v502 = 1#1), ∀ a, (k3_off690 i v496 v502 k3_t172) a + S1x16.size a ≤ S256x128.size a := fun i v496 v502 k3_hw22 k3_t172 k3_h86 => k3_hw22.1.2.2.2.2.2.2.2.2.2.2.2.2.2.2.2.2.2.2.2.2.2.2.2.2.2.2.2.2.2.1 k3_t172 k3_h86
theorem k3_t235_ok : ∀ (i : grid3.Coords) (v496 : BitVec 32) (v502 : BitVec 32) (k3_hw22 : k3_chk22 i v496 v502), ∀ (k3_h118 : k3_cond118 i v496 v502 = 1#1), (k3_t235_loop i v496 v502).OK := fun i v496 v502 k3_hw22 k3_h118 => k3_hw22.1.2.2.2.2.2.2.2.2.2.2.2.2.2.2.2.2.2.2.2.2.2.2.2.2.2.2.2.2.2.2.1 k3_h118
theorem k3_off939_inb : ∀ (i : grid3.Coords) (v496 : BitVec 32) (v502 : BitVec 32) (k3_hw22 : k3_chk22 i v496 v502) (k3_t235 : Fin (k3_t235_loop i v496 v502).trips), ∀ (k3_h118 : k3_cond118 i v496 v502 = 1#1), ∀ a, (k3_off939 i v496 v502 k3_t235) a + S1x16.size a ≤ S256x128.size a := fun i v496 v502 k3_hw22 k3_t235 k3_h118 => k3_hw22.1.2.2.2.2.2.2.2.2.2.2.2.2.2.2.2.2.2.2.2.2.2.2.2.2.2.2.2.2.2.2.2 k3_t235 k3_h118
theorem k3_off940_inb : ∀ (i : grid3.Coords) (v496 : BitVec 32) (v502 : BitVec 32) (k3_hw22 : k3_chk22 i v496 v502) (k3_t235 : Fin (k3_t235_loop i v496 v502).trips), ∀ (k3_h118 : k3_cond118 i v496 v502 = 1#1), ∀ a, (k3_off940 i v496 v502 k3_t235) a + S1x16.size a ≤ S256x128.size a := fun i v496 v502 k3_hw22 k3_t235 k3_h118 => k3_hw22.2.1 k3_t235 k3_h118
theorem k3_off941_inb : ∀ (i : grid3.Coords) (v496 : BitVec 32) (v502 : BitVec 32) (k3_hw22 : k3_chk22 i v496 v502) (k3_t235 : Fin (k3_t235_loop i v496 v502).trips), ∀ (k3_h118 : k3_cond118 i v496 v502 = 1#1), ∀ a, (k3_off941 i v496 v502 k3_t235) a + S1x16.size a ≤ S256x128.size a := fun i v496 v502 k3_hw22 k3_t235 k3_h118 => k3_hw22.2.2.1 k3_t235 k3_h118
theorem k3_off942_inb : ∀ (i : grid3.Coords) (v496 : BitVec 32) (v502 : BitVec 32) (k3_hw22 : k3_chk22 i v496 v502) (k3_t235 : Fin (k3_t235_loop i v496 v502).trips), ∀ (k3_h118 : k3_cond118 i v496 v502 = 1#1), ∀ a, (k3_off942 i v496 v502 k3_t235) a + S1x16.size a ≤ S256x128.size a := fun i v496 v502 k3_hw22 k3_t235 k3_h118 => k3_hw22.2.2.2.1 k3_t235 k3_h118
theorem k3_t236_ok : ∀ (i : grid3.Coords) (v496 : BitVec 32) (v502 : BitVec 32) (k3_hw22 : k3_chk22 i v496 v502), ∀ (k3_h118 : k3_cond118 i v496 v502 = 1#1), (k3_t236_loop i v496 v502).OK := fun i v496 v502 k3_hw22 k3_h118 => k3_hw22.2.2.2.2.1 k3_h118
theorem k3_off943_inb : ∀ (i : grid3.Coords) (v496 : BitVec 32) (v502 : BitVec 32) (k3_hw22 : k3_chk22 i v496 v502) (k3_t236 : Fin (k3_t236_loop i v496 v502).trips), ∀ (k3_h118 : k3_cond118 i v496 v502 = 1#1), ∀ a, (k3_off943 i v496 v502 k3_t236) a + S1x16.size a ≤ S256x128.size a := fun i v496 v502 k3_hw22 k3_t236 k3_h118 => k3_hw22.2.2.2.2.2.1 k3_t236 k3_h118
theorem k3_off944_inb : ∀ (i : grid3.Coords) (v496 : BitVec 32) (v502 : BitVec 32) (k3_hw22 : k3_chk22 i v496 v502) (k3_t236 : Fin (k3_t236_loop i v496 v502).trips), ∀ (k3_h118 : k3_cond118 i v496 v502 = 1#1), ∀ a, (k3_off944 i v496 v502 k3_t236) a + S1x16.size a ≤ S256x128.size a := fun i v496 v502 k3_hw22 k3_t236 k3_h118 => k3_hw22.2.2.2.2.2.2.1 k3_t236 k3_h118
theorem k3_off945_inb : ∀ (i : grid3.Coords) (v496 : BitVec 32) (v502 : BitVec 32) (k3_hw22 : k3_chk22 i v496 v502) (k3_t236 : Fin (k3_t236_loop i v496 v502).trips), ∀ (k3_h118 : k3_cond118 i v496 v502 = 1#1), ∀ a, (k3_off945 i v496 v502 k3_t236) a + S1x16.size a ≤ S256x128.size a := fun i v496 v502 k3_hw22 k3_t236 k3_h118 => k3_hw22.2.2.2.2.2.2.2.1 k3_t236 k3_h118
theorem k3_off946_inb : ∀ (i : grid3.Coords) (v496 : BitVec 32) (v502 : BitVec 32) (k3_hw22 : k3_chk22 i v496 v502) (k3_t236 : Fin (k3_t236_loop i v496 v502).trips), ∀ (k3_h118 : k3_cond118 i v496 v502 = 1#1), ∀ a, (k3_off946 i v496 v502 k3_t236) a + S1x16.size a ≤ S256x128.size a := fun i v496 v502 k3_hw22 k3_t236 k3_h118 => k3_hw22.2.2.2.2.2.2.2.2 k3_t236 k3_h118

@[reducible] def k3_t237_loop (i : grid3.Coords) (v508 : BitVec 32) (v513 : BitVec 32) : Scf.Loop 32 :=
  let c256_i32_1119 : BitVec 32 := 256#32
  let c0_i32_1118 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let c256_i32_1122 : BitVec 32 := 256#32
  let c0_i32_1121 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c768_i32_1120 : BitVec 32 := 768#32
  let v1706 : BitVec 32 := Scalar.subi v516 c768_i32_1120
  let v1707 : BitVec 32 := Scalar.maxsi c0_i32_1121 v1706
  let v1708 : BitVec 32 := Scalar.minsi c256_i32_1122 v1707
  let v1805 : BitVec 32 := Scalar.subi v1708 v1705
  let c1_i32_1195 : BitVec 32 := 1#32
  let v1807 : BitVec 32 := Scalar.divsi v1805 c1_i32_1195
  let v1808 : BitVec 32 := Scalar.muli v1807 c1_i32_1195
  let v1809 : BitVec 32 := Scalar.addi v1705 v1808
  let c1_i32_1196 : BitVec 32 := 1#32
  ⟨v1705, v1809, c1_i32_1196⟩
def k3_cond119 (i : grid3.Coords) (v508 : BitVec 32) (v513 : BitVec 32) : BitVec 1 :=
  let c256_i32_1122 : BitVec 32 := 256#32
  let c0_i32_1121 : BitVec 32 := 0#32
  let c1024_i32_223 : BitVec 32 := 1024#32
  let c0_i32_222 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v514 : BitVec 32 := Scalar.subi v513 v3
  let v515 : BitVec 32 := Scalar.maxsi c0_i32_222 v514
  let v516 : BitVec 32 := Scalar.minsi c1024_i32_223 v515
  let c768_i32_1120 : BitVec 32 := 768#32
  let v1706 : BitVec 32 := Scalar.subi v516 c768_i32_1120
  let v1707 : BitVec 32 := Scalar.maxsi c0_i32_1121 v1706
  let v1708 : BitVec 32 := Scalar.minsi c256_i32_1122 v1707
  let c256_i32_1119 : BitVec 32 := 256#32
  let c0_i32_1118 : BitVec 32 := 0#32
  let c1024_i32_221 : BitVec 32 := 1024#32
  let c0_i32_220 : BitVec 32 := 0#32
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let v1709 : BitVec 1 := Scalar.cmpi .sgt v1708 v1705
  let v1710 : BitVec 32 := Scalar.extui v1709
  let c0_i32_1123 : BitVec 32 := 0#32
  let v1711 : BitVec 1 := Scalar.cmpi .ne v1710 c0_i32_1123
  v1711

def k3_off947 (i : grid3.Coords) (v508 : BitVec 32) (v513 : BitVec 32) (k3_t237 : Fin (k3_t237_loop i v508 v513).trips) : Fin 2 → Nat :=
  let c256_i32_1119 : BitVec 32 := 256#32
  let c0_i32_1118 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let c1_i32_1196 : BitVec 32 := 1#32
  let arg13 : BitVec 32 := Scf.iv v1705 c1_i32_1196 k3_t237
  let v1828 : Index := Scalar.indexCast arg13
  let c0_1206 : Index := 0#32
  ![v1828.toNat, 0]
def k3_off948 (i : grid3.Coords) (v508 : BitVec 32) (v513 : BitVec 32) (k3_t237 : Fin (k3_t237_loop i v508 v513).trips) : Fin 2 → Nat :=
  let c256_i32_1119 : BitVec 32 := 256#32
  let c0_i32_1118 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let c1_i32_1196 : BitVec 32 := 1#32
  let arg13 : BitVec 32 := Scf.iv v1705 c1_i32_1196 k3_t237
  let v1832 : Index := Scalar.indexCast arg13
  let c16_1207 : Index := 16#32
  ![v1832.toNat, 16]
def k3_off949 (i : grid3.Coords) (v508 : BitVec 32) (v513 : BitVec 32) (k3_t237 : Fin (k3_t237_loop i v508 v513).trips) : Fin 2 → Nat :=
  let c256_i32_1119 : BitVec 32 := 256#32
  let c0_i32_1118 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let c1_i32_1196 : BitVec 32 := 1#32
  let arg13 : BitVec 32 := Scf.iv v1705 c1_i32_1196 k3_t237
  let v1836 : Index := Scalar.indexCast arg13
  let c32_1208 : Index := 32#32
  ![v1836.toNat, 32]
def k3_off950 (i : grid3.Coords) (v508 : BitVec 32) (v513 : BitVec 32) (k3_t237 : Fin (k3_t237_loop i v508 v513).trips) : Fin 2 → Nat :=
  let c256_i32_1119 : BitVec 32 := 256#32
  let c0_i32_1118 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let c1_i32_1196 : BitVec 32 := 1#32
  let arg13 : BitVec 32 := Scf.iv v1705 c1_i32_1196 k3_t237
  let v1840 : Index := Scalar.indexCast arg13
  let c48_1209 : Index := 48#32
  ![v1840.toNat, 48]
@[reducible] def k3_t238_loop (i : grid3.Coords) (v508 : BitVec 32) (v513 : BitVec 32) : Scf.Loop 32 :=
  let c256_i32_1119 : BitVec 32 := 256#32
  let c0_i32_1118 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let c256_i32_1122 : BitVec 32 := 256#32
  let c0_i32_1121 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c768_i32_1120 : BitVec 32 := 768#32
  let v1706 : BitVec 32 := Scalar.subi v516 c768_i32_1120
  let v1707 : BitVec 32 := Scalar.maxsi c0_i32_1121 v1706
  let v1708 : BitVec 32 := Scalar.minsi c256_i32_1122 v1707
  let v1805 : BitVec 32 := Scalar.subi v1708 v1705
  let c1_i32_1195 : BitVec 32 := 1#32
  let v1807 : BitVec 32 := Scalar.divsi v1805 c1_i32_1195
  let v1808 : BitVec 32 := Scalar.muli v1807 c1_i32_1195
  let v1809 : BitVec 32 := Scalar.addi v1705 v1808
  let v1806 : BitVec 32 := Scalar.addi v1705 v1805
  let c1_i32_1197 : BitVec 32 := 1#32
  ⟨v1809, v1806, c1_i32_1197⟩
def k3_off951 (i : grid3.Coords) (v508 : BitVec 32) (v513 : BitVec 32) (k3_t238 : Fin (k3_t238_loop i v508 v513).trips) : Fin 2 → Nat :=
  let c256_i32_1119 : BitVec 32 := 256#32
  let c0_i32_1118 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let c256_i32_1122 : BitVec 32 := 256#32
  let c0_i32_1121 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c768_i32_1120 : BitVec 32 := 768#32
  let v1706 : BitVec 32 := Scalar.subi v516 c768_i32_1120
  let v1707 : BitVec 32 := Scalar.maxsi c0_i32_1121 v1706
  let v1708 : BitVec 32 := Scalar.minsi c256_i32_1122 v1707
  let v1805 : BitVec 32 := Scalar.subi v1708 v1705
  let c1_i32_1195 : BitVec 32 := 1#32
  let v1807 : BitVec 32 := Scalar.divsi v1805 c1_i32_1195
  let v1808 : BitVec 32 := Scalar.muli v1807 c1_i32_1195
  let v1809 : BitVec 32 := Scalar.addi v1705 v1808
  let c1_i32_1197 : BitVec 32 := 1#32
  let arg13 : BitVec 32 := Scf.iv v1809 c1_i32_1197 k3_t238
  let v1828 : Index := Scalar.indexCast arg13
  let c0_1206 : Index := 0#32
  ![v1828.toNat, 0]
def k3_off952 (i : grid3.Coords) (v508 : BitVec 32) (v513 : BitVec 32) (k3_t238 : Fin (k3_t238_loop i v508 v513).trips) : Fin 2 → Nat :=
  let c256_i32_1119 : BitVec 32 := 256#32
  let c0_i32_1118 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let c256_i32_1122 : BitVec 32 := 256#32
  let c0_i32_1121 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c768_i32_1120 : BitVec 32 := 768#32
  let v1706 : BitVec 32 := Scalar.subi v516 c768_i32_1120
  let v1707 : BitVec 32 := Scalar.maxsi c0_i32_1121 v1706
  let v1708 : BitVec 32 := Scalar.minsi c256_i32_1122 v1707
  let v1805 : BitVec 32 := Scalar.subi v1708 v1705
  let c1_i32_1195 : BitVec 32 := 1#32
  let v1807 : BitVec 32 := Scalar.divsi v1805 c1_i32_1195
  let v1808 : BitVec 32 := Scalar.muli v1807 c1_i32_1195
  let v1809 : BitVec 32 := Scalar.addi v1705 v1808
  let c1_i32_1197 : BitVec 32 := 1#32
  let arg13 : BitVec 32 := Scf.iv v1809 c1_i32_1197 k3_t238
  let v1832 : Index := Scalar.indexCast arg13
  let c16_1207 : Index := 16#32
  ![v1832.toNat, 16]
def k3_off953 (i : grid3.Coords) (v508 : BitVec 32) (v513 : BitVec 32) (k3_t238 : Fin (k3_t238_loop i v508 v513).trips) : Fin 2 → Nat :=
  let c256_i32_1119 : BitVec 32 := 256#32
  let c0_i32_1118 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let c256_i32_1122 : BitVec 32 := 256#32
  let c0_i32_1121 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c768_i32_1120 : BitVec 32 := 768#32
  let v1706 : BitVec 32 := Scalar.subi v516 c768_i32_1120
  let v1707 : BitVec 32 := Scalar.maxsi c0_i32_1121 v1706
  let v1708 : BitVec 32 := Scalar.minsi c256_i32_1122 v1707
  let v1805 : BitVec 32 := Scalar.subi v1708 v1705
  let c1_i32_1195 : BitVec 32 := 1#32
  let v1807 : BitVec 32 := Scalar.divsi v1805 c1_i32_1195
  let v1808 : BitVec 32 := Scalar.muli v1807 c1_i32_1195
  let v1809 : BitVec 32 := Scalar.addi v1705 v1808
  let c1_i32_1197 : BitVec 32 := 1#32
  let arg13 : BitVec 32 := Scf.iv v1809 c1_i32_1197 k3_t238
  let v1836 : Index := Scalar.indexCast arg13
  let c32_1208 : Index := 32#32
  ![v1836.toNat, 32]
def k3_off954 (i : grid3.Coords) (v508 : BitVec 32) (v513 : BitVec 32) (k3_t238 : Fin (k3_t238_loop i v508 v513).trips) : Fin 2 → Nat :=
  let c256_i32_1119 : BitVec 32 := 256#32
  let c0_i32_1118 : BitVec 32 := 0#32
  let c1024_i32_221 : BitVec 32 := 1024#32
  let c0_i32_220 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v509 : BitVec 32 := Scalar.subi v508 v3
  let v510 : BitVec 32 := Scalar.maxsi c0_i32_220 v509
  let v511 : BitVec 32 := Scalar.minsi c1024_i32_221 v510
  let c768_i32_1117 : BitVec 32 := 768#32
  let v1703 : BitVec 32 := Scalar.subi v511 c768_i32_1117
  let v1704 : BitVec 32 := Scalar.maxsi c0_i32_1118 v1703
  let v1705 : BitVec 32 := Scalar.minsi c256_i32_1119 v1704
  let c256_i32_1122 : BitVec 32 := 256#32
  let c0_i32_1121 : BitVec 32 := 0#32
  let c1024_i32_223 : BitVec 32 := 1024#32
  let c0_i32_222 : BitVec 32 := 0#32
  let v514 : BitVec 32 := Scalar.subi v513 v3
  let v515 : BitVec 32 := Scalar.maxsi c0_i32_222 v514
  let v516 : BitVec 32 := Scalar.minsi c1024_i32_223 v515
  let c768_i32_1120 : BitVec 32 := 768#32
  let v1706 : BitVec 32 := Scalar.subi v516 c768_i32_1120
  let v1707 : BitVec 32 := Scalar.maxsi c0_i32_1121 v1706
  let v1708 : BitVec 32 := Scalar.minsi c256_i32_1122 v1707
  let v1805 : BitVec 32 := Scalar.subi v1708 v1705
  let c1_i32_1195 : BitVec 32 := 1#32
  let v1807 : BitVec 32 := Scalar.divsi v1805 c1_i32_1195
  let v1808 : BitVec 32 := Scalar.muli v1807 c1_i32_1195
  let v1809 : BitVec 32 := Scalar.addi v1705 v1808
  let c1_i32_1197 : BitVec 32 := 1#32
  let arg13 : BitVec 32 := Scf.iv v1809 c1_i32_1197 k3_t238
  let v1840 : Index := Scalar.indexCast arg13
  let c48_1209 : Index := 48#32
  ![v1840.toNat, 48]

def k3_chk23_0 (i : grid3.Coords) (v508 : BitVec 32) (v513 : BitVec 32) : Prop :=
  (∀ (k3_h23 : k3_cond23 i v508 v513 = 1#1), (k3_t45_loop i v508 v513).OK) ∧
  (∀ k3_t45 : Fin (k3_t45_loop i v508 v513).trips, ∀ (k3_h23 : k3_cond23 i v508 v513 = 1#1), ∀ a, (k3_off178 i v508 v513 k3_t45) a + S1x16.size a ≤ S256x128.size a) ∧
  (∀ k3_t45 : Fin (k3_t45_loop i v508 v513).trips, ∀ (k3_h23 : k3_cond23 i v508 v513 = 1#1), ∀ a, (k3_off179 i v508 v513 k3_t45) a + S1x16.size a ≤ S256x128.size a) ∧
  (∀ k3_t45 : Fin (k3_t45_loop i v508 v513).trips, ∀ (k3_h23 : k3_cond23 i v508 v513 = 1#1), ∀ a, (k3_off180 i v508 v513 k3_t45) a + S1x16.size a ≤ S256x128.size a) ∧
  (∀ k3_t45 : Fin (k3_t45_loop i v508 v513).trips, ∀ (k3_h23 : k3_cond23 i v508 v513 = 1#1), ∀ a, (k3_off181 i v508 v513 k3_t45) a + S1x16.size a ≤ S256x128.size a) ∧
  (∀ (k3_h23 : k3_cond23 i v508 v513 = 1#1), (k3_t46_loop i v508 v513).OK) ∧
  (∀ k3_t46 : Fin (k3_t46_loop i v508 v513).trips, ∀ (k3_h23 : k3_cond23 i v508 v513 = 1#1), ∀ a, (k3_off182 i v508 v513 k3_t46) a + S1x16.size a ≤ S256x128.size a) ∧
  (∀ k3_t46 : Fin (k3_t46_loop i v508 v513).trips, ∀ (k3_h23 : k3_cond23 i v508 v513 = 1#1), ∀ a, (k3_off183 i v508 v513 k3_t46) a + S1x16.size a ≤ S256x128.size a) ∧
  (∀ k3_t46 : Fin (k3_t46_loop i v508 v513).trips, ∀ (k3_h23 : k3_cond23 i v508 v513 = 1#1), ∀ a, (k3_off184 i v508 v513 k3_t46) a + S1x16.size a ≤ S256x128.size a) ∧
  (∀ k3_t46 : Fin (k3_t46_loop i v508 v513).trips, ∀ (k3_h23 : k3_cond23 i v508 v513 = 1#1), ∀ a, (k3_off185 i v508 v513 k3_t46) a + S1x16.size a ≤ S256x128.size a) ∧
  (∀ (k3_h55 : k3_cond55 i v508 v513 = 1#1), (k3_t109_loop i v508 v513).OK) ∧
  (∀ k3_t109 : Fin (k3_t109_loop i v508 v513).trips, ∀ (k3_h55 : k3_cond55 i v508 v513 = 1#1), ∀ a, (k3_off435 i v508 v513 k3_t109) a + S1x16.size a ≤ S256x128.size a) ∧
  (∀ k3_t109 : Fin (k3_t109_loop i v508 v513).trips, ∀ (k3_h55 : k3_cond55 i v508 v513 = 1#1), ∀ a, (k3_off436 i v508 v513 k3_t109) a + S1x16.size a ≤ S256x128.size a) ∧
  (∀ k3_t109 : Fin (k3_t109_loop i v508 v513).trips, ∀ (k3_h55 : k3_cond55 i v508 v513 = 1#1), ∀ a, (k3_off437 i v508 v513 k3_t109) a + S1x16.size a ≤ S256x128.size a) ∧
  (∀ k3_t109 : Fin (k3_t109_loop i v508 v513).trips, ∀ (k3_h55 : k3_cond55 i v508 v513 = 1#1), ∀ a, (k3_off438 i v508 v513 k3_t109) a + S1x16.size a ≤ S256x128.size a) ∧
  (∀ (k3_h55 : k3_cond55 i v508 v513 = 1#1), (k3_t110_loop i v508 v513).OK) ∧
  (∀ k3_t110 : Fin (k3_t110_loop i v508 v513).trips, ∀ (k3_h55 : k3_cond55 i v508 v513 = 1#1), ∀ a, (k3_off439 i v508 v513 k3_t110) a + S1x16.size a ≤ S256x128.size a) ∧
  (∀ k3_t110 : Fin (k3_t110_loop i v508 v513).trips, ∀ (k3_h55 : k3_cond55 i v508 v513 = 1#1), ∀ a, (k3_off440 i v508 v513 k3_t110) a + S1x16.size a ≤ S256x128.size a) ∧
  (∀ k3_t110 : Fin (k3_t110_loop i v508 v513).trips, ∀ (k3_h55 : k3_cond55 i v508 v513 = 1#1), ∀ a, (k3_off441 i v508 v513 k3_t110) a + S1x16.size a ≤ S256x128.size a) ∧
  (∀ k3_t110 : Fin (k3_t110_loop i v508 v513).trips, ∀ (k3_h55 : k3_cond55 i v508 v513 = 1#1), ∀ a, (k3_off442 i v508 v513 k3_t110) a + S1x16.size a ≤ S256x128.size a) ∧
  (∀ (k3_h87 : k3_cond87 i v508 v513 = 1#1), (k3_t173_loop i v508 v513).OK) ∧
  (∀ k3_t173 : Fin (k3_t173_loop i v508 v513).trips, ∀ (k3_h87 : k3_cond87 i v508 v513 = 1#1), ∀ a, (k3_off691 i v508 v513 k3_t173) a + S1x16.size a ≤ S256x128.size a) ∧
  (∀ k3_t173 : Fin (k3_t173_loop i v508 v513).trips, ∀ (k3_h87 : k3_cond87 i v508 v513 = 1#1), ∀ a, (k3_off692 i v508 v513 k3_t173) a + S1x16.size a ≤ S256x128.size a) ∧
  (∀ k3_t173 : Fin (k3_t173_loop i v508 v513).trips, ∀ (k3_h87 : k3_cond87 i v508 v513 = 1#1), ∀ a, (k3_off693 i v508 v513 k3_t173) a + S1x16.size a ≤ S256x128.size a) ∧
  (∀ k3_t173 : Fin (k3_t173_loop i v508 v513).trips, ∀ (k3_h87 : k3_cond87 i v508 v513 = 1#1), ∀ a, (k3_off694 i v508 v513 k3_t173) a + S1x16.size a ≤ S256x128.size a) ∧
  (∀ (k3_h87 : k3_cond87 i v508 v513 = 1#1), (k3_t174_loop i v508 v513).OK) ∧
  (∀ k3_t174 : Fin (k3_t174_loop i v508 v513).trips, ∀ (k3_h87 : k3_cond87 i v508 v513 = 1#1), ∀ a, (k3_off695 i v508 v513 k3_t174) a + S1x16.size a ≤ S256x128.size a) ∧
  (∀ k3_t174 : Fin (k3_t174_loop i v508 v513).trips, ∀ (k3_h87 : k3_cond87 i v508 v513 = 1#1), ∀ a, (k3_off696 i v508 v513 k3_t174) a + S1x16.size a ≤ S256x128.size a) ∧
  (∀ k3_t174 : Fin (k3_t174_loop i v508 v513).trips, ∀ (k3_h87 : k3_cond87 i v508 v513 = 1#1), ∀ a, (k3_off697 i v508 v513 k3_t174) a + S1x16.size a ≤ S256x128.size a) ∧
  (∀ k3_t174 : Fin (k3_t174_loop i v508 v513).trips, ∀ (k3_h87 : k3_cond87 i v508 v513 = 1#1), ∀ a, (k3_off698 i v508 v513 k3_t174) a + S1x16.size a ≤ S256x128.size a) ∧
  (∀ (k3_h119 : k3_cond119 i v508 v513 = 1#1), (k3_t237_loop i v508 v513).OK) ∧
  (∀ k3_t237 : Fin (k3_t237_loop i v508 v513).trips, ∀ (k3_h119 : k3_cond119 i v508 v513 = 1#1), ∀ a, (k3_off947 i v508 v513 k3_t237) a + S1x16.size a ≤ S256x128.size a)
def k3_chk23_1 (i : grid3.Coords) (v508 : BitVec 32) (v513 : BitVec 32) : Prop :=
  (∀ k3_t237 : Fin (k3_t237_loop i v508 v513).trips, ∀ (k3_h119 : k3_cond119 i v508 v513 = 1#1), ∀ a, (k3_off948 i v508 v513 k3_t237) a + S1x16.size a ≤ S256x128.size a) ∧
  (∀ k3_t237 : Fin (k3_t237_loop i v508 v513).trips, ∀ (k3_h119 : k3_cond119 i v508 v513 = 1#1), ∀ a, (k3_off949 i v508 v513 k3_t237) a + S1x16.size a ≤ S256x128.size a) ∧
  (∀ k3_t237 : Fin (k3_t237_loop i v508 v513).trips, ∀ (k3_h119 : k3_cond119 i v508 v513 = 1#1), ∀ a, (k3_off950 i v508 v513 k3_t237) a + S1x16.size a ≤ S256x128.size a) ∧
  (∀ (k3_h119 : k3_cond119 i v508 v513 = 1#1), (k3_t238_loop i v508 v513).OK) ∧
  (∀ k3_t238 : Fin (k3_t238_loop i v508 v513).trips, ∀ (k3_h119 : k3_cond119 i v508 v513 = 1#1), ∀ a, (k3_off951 i v508 v513 k3_t238) a + S1x16.size a ≤ S256x128.size a) ∧
  (∀ k3_t238 : Fin (k3_t238_loop i v508 v513).trips, ∀ (k3_h119 : k3_cond119 i v508 v513 = 1#1), ∀ a, (k3_off952 i v508 v513 k3_t238) a + S1x16.size a ≤ S256x128.size a) ∧
  (∀ k3_t238 : Fin (k3_t238_loop i v508 v513).trips, ∀ (k3_h119 : k3_cond119 i v508 v513 = 1#1), ∀ a, (k3_off953 i v508 v513 k3_t238) a + S1x16.size a ≤ S256x128.size a) ∧
  (∀ k3_t238 : Fin (k3_t238_loop i v508 v513).trips, ∀ (k3_h119 : k3_cond119 i v508 v513 = 1#1), ∀ a, (k3_off954 i v508 v513 k3_t238) a + S1x16.size a ≤ S256x128.size a)
def k3_chk23 (i : grid3.Coords) (v508 : BitVec 32) (v513 : BitVec 32) : Prop :=
  k3_chk23_0 i v508 v513 ∧
  k3_chk23_1 i v508 v513
theorem k3_t45_ok : ∀ (i : grid3.Coords) (v508 : BitVec 32) (v513 : BitVec 32) (k3_hw23 : k3_chk23 i v508 v513), ∀ (k3_h23 : k3_cond23 i v508 v513 = 1#1), (k3_t45_loop i v508 v513).OK := fun i v508 v513 k3_hw23 k3_h23 => k3_hw23.1.1 k3_h23
theorem k3_off178_inb : ∀ (i : grid3.Coords) (v508 : BitVec 32) (v513 : BitVec 32) (k3_hw23 : k3_chk23 i v508 v513) (k3_t45 : Fin (k3_t45_loop i v508 v513).trips), ∀ (k3_h23 : k3_cond23 i v508 v513 = 1#1), ∀ a, (k3_off178 i v508 v513 k3_t45) a + S1x16.size a ≤ S256x128.size a := fun i v508 v513 k3_hw23 k3_t45 k3_h23 => k3_hw23.1.2.1 k3_t45 k3_h23
theorem k3_off179_inb : ∀ (i : grid3.Coords) (v508 : BitVec 32) (v513 : BitVec 32) (k3_hw23 : k3_chk23 i v508 v513) (k3_t45 : Fin (k3_t45_loop i v508 v513).trips), ∀ (k3_h23 : k3_cond23 i v508 v513 = 1#1), ∀ a, (k3_off179 i v508 v513 k3_t45) a + S1x16.size a ≤ S256x128.size a := fun i v508 v513 k3_hw23 k3_t45 k3_h23 => k3_hw23.1.2.2.1 k3_t45 k3_h23
theorem k3_off180_inb : ∀ (i : grid3.Coords) (v508 : BitVec 32) (v513 : BitVec 32) (k3_hw23 : k3_chk23 i v508 v513) (k3_t45 : Fin (k3_t45_loop i v508 v513).trips), ∀ (k3_h23 : k3_cond23 i v508 v513 = 1#1), ∀ a, (k3_off180 i v508 v513 k3_t45) a + S1x16.size a ≤ S256x128.size a := fun i v508 v513 k3_hw23 k3_t45 k3_h23 => k3_hw23.1.2.2.2.1 k3_t45 k3_h23
theorem k3_off181_inb : ∀ (i : grid3.Coords) (v508 : BitVec 32) (v513 : BitVec 32) (k3_hw23 : k3_chk23 i v508 v513) (k3_t45 : Fin (k3_t45_loop i v508 v513).trips), ∀ (k3_h23 : k3_cond23 i v508 v513 = 1#1), ∀ a, (k3_off181 i v508 v513 k3_t45) a + S1x16.size a ≤ S256x128.size a := fun i v508 v513 k3_hw23 k3_t45 k3_h23 => k3_hw23.1.2.2.2.2.1 k3_t45 k3_h23
theorem k3_t46_ok : ∀ (i : grid3.Coords) (v508 : BitVec 32) (v513 : BitVec 32) (k3_hw23 : k3_chk23 i v508 v513), ∀ (k3_h23 : k3_cond23 i v508 v513 = 1#1), (k3_t46_loop i v508 v513).OK := fun i v508 v513 k3_hw23 k3_h23 => k3_hw23.1.2.2.2.2.2.1 k3_h23
theorem k3_off182_inb : ∀ (i : grid3.Coords) (v508 : BitVec 32) (v513 : BitVec 32) (k3_hw23 : k3_chk23 i v508 v513) (k3_t46 : Fin (k3_t46_loop i v508 v513).trips), ∀ (k3_h23 : k3_cond23 i v508 v513 = 1#1), ∀ a, (k3_off182 i v508 v513 k3_t46) a + S1x16.size a ≤ S256x128.size a := fun i v508 v513 k3_hw23 k3_t46 k3_h23 => k3_hw23.1.2.2.2.2.2.2.1 k3_t46 k3_h23
theorem k3_off183_inb : ∀ (i : grid3.Coords) (v508 : BitVec 32) (v513 : BitVec 32) (k3_hw23 : k3_chk23 i v508 v513) (k3_t46 : Fin (k3_t46_loop i v508 v513).trips), ∀ (k3_h23 : k3_cond23 i v508 v513 = 1#1), ∀ a, (k3_off183 i v508 v513 k3_t46) a + S1x16.size a ≤ S256x128.size a := fun i v508 v513 k3_hw23 k3_t46 k3_h23 => k3_hw23.1.2.2.2.2.2.2.2.1 k3_t46 k3_h23
theorem k3_off184_inb : ∀ (i : grid3.Coords) (v508 : BitVec 32) (v513 : BitVec 32) (k3_hw23 : k3_chk23 i v508 v513) (k3_t46 : Fin (k3_t46_loop i v508 v513).trips), ∀ (k3_h23 : k3_cond23 i v508 v513 = 1#1), ∀ a, (k3_off184 i v508 v513 k3_t46) a + S1x16.size a ≤ S256x128.size a := fun i v508 v513 k3_hw23 k3_t46 k3_h23 => k3_hw23.1.2.2.2.2.2.2.2.2.1 k3_t46 k3_h23
theorem k3_off185_inb : ∀ (i : grid3.Coords) (v508 : BitVec 32) (v513 : BitVec 32) (k3_hw23 : k3_chk23 i v508 v513) (k3_t46 : Fin (k3_t46_loop i v508 v513).trips), ∀ (k3_h23 : k3_cond23 i v508 v513 = 1#1), ∀ a, (k3_off185 i v508 v513 k3_t46) a + S1x16.size a ≤ S256x128.size a := fun i v508 v513 k3_hw23 k3_t46 k3_h23 => k3_hw23.1.2.2.2.2.2.2.2.2.2.1 k3_t46 k3_h23
theorem k3_t109_ok : ∀ (i : grid3.Coords) (v508 : BitVec 32) (v513 : BitVec 32) (k3_hw23 : k3_chk23 i v508 v513), ∀ (k3_h55 : k3_cond55 i v508 v513 = 1#1), (k3_t109_loop i v508 v513).OK := fun i v508 v513 k3_hw23 k3_h55 => k3_hw23.1.2.2.2.2.2.2.2.2.2.2.1 k3_h55
theorem k3_off435_inb : ∀ (i : grid3.Coords) (v508 : BitVec 32) (v513 : BitVec 32) (k3_hw23 : k3_chk23 i v508 v513) (k3_t109 : Fin (k3_t109_loop i v508 v513).trips), ∀ (k3_h55 : k3_cond55 i v508 v513 = 1#1), ∀ a, (k3_off435 i v508 v513 k3_t109) a + S1x16.size a ≤ S256x128.size a := fun i v508 v513 k3_hw23 k3_t109 k3_h55 => k3_hw23.1.2.2.2.2.2.2.2.2.2.2.2.1 k3_t109 k3_h55
theorem k3_off436_inb : ∀ (i : grid3.Coords) (v508 : BitVec 32) (v513 : BitVec 32) (k3_hw23 : k3_chk23 i v508 v513) (k3_t109 : Fin (k3_t109_loop i v508 v513).trips), ∀ (k3_h55 : k3_cond55 i v508 v513 = 1#1), ∀ a, (k3_off436 i v508 v513 k3_t109) a + S1x16.size a ≤ S256x128.size a := fun i v508 v513 k3_hw23 k3_t109 k3_h55 => k3_hw23.1.2.2.2.2.2.2.2.2.2.2.2.2.1 k3_t109 k3_h55
theorem k3_off437_inb : ∀ (i : grid3.Coords) (v508 : BitVec 32) (v513 : BitVec 32) (k3_hw23 : k3_chk23 i v508 v513) (k3_t109 : Fin (k3_t109_loop i v508 v513).trips), ∀ (k3_h55 : k3_cond55 i v508 v513 = 1#1), ∀ a, (k3_off437 i v508 v513 k3_t109) a + S1x16.size a ≤ S256x128.size a := fun i v508 v513 k3_hw23 k3_t109 k3_h55 => k3_hw23.1.2.2.2.2.2.2.2.2.2.2.2.2.2.1 k3_t109 k3_h55
theorem k3_off438_inb : ∀ (i : grid3.Coords) (v508 : BitVec 32) (v513 : BitVec 32) (k3_hw23 : k3_chk23 i v508 v513) (k3_t109 : Fin (k3_t109_loop i v508 v513).trips), ∀ (k3_h55 : k3_cond55 i v508 v513 = 1#1), ∀ a, (k3_off438 i v508 v513 k3_t109) a + S1x16.size a ≤ S256x128.size a := fun i v508 v513 k3_hw23 k3_t109 k3_h55 => k3_hw23.1.2.2.2.2.2.2.2.2.2.2.2.2.2.2.1 k3_t109 k3_h55
theorem k3_t110_ok : ∀ (i : grid3.Coords) (v508 : BitVec 32) (v513 : BitVec 32) (k3_hw23 : k3_chk23 i v508 v513), ∀ (k3_h55 : k3_cond55 i v508 v513 = 1#1), (k3_t110_loop i v508 v513).OK := fun i v508 v513 k3_hw23 k3_h55 => k3_hw23.1.2.2.2.2.2.2.2.2.2.2.2.2.2.2.2.1 k3_h55
theorem k3_off439_inb : ∀ (i : grid3.Coords) (v508 : BitVec 32) (v513 : BitVec 32) (k3_hw23 : k3_chk23 i v508 v513) (k3_t110 : Fin (k3_t110_loop i v508 v513).trips), ∀ (k3_h55 : k3_cond55 i v508 v513 = 1#1), ∀ a, (k3_off439 i v508 v513 k3_t110) a + S1x16.size a ≤ S256x128.size a := fun i v508 v513 k3_hw23 k3_t110 k3_h55 => k3_hw23.1.2.2.2.2.2.2.2.2.2.2.2.2.2.2.2.2.1 k3_t110 k3_h55
theorem k3_off440_inb : ∀ (i : grid3.Coords) (v508 : BitVec 32) (v513 : BitVec 32) (k3_hw23 : k3_chk23 i v508 v513) (k3_t110 : Fin (k3_t110_loop i v508 v513).trips), ∀ (k3_h55 : k3_cond55 i v508 v513 = 1#1), ∀ a, (k3_off440 i v508 v513 k3_t110) a + S1x16.size a ≤ S256x128.size a := fun i v508 v513 k3_hw23 k3_t110 k3_h55 => k3_hw23.1.2.2.2.2.2.2.2.2.2.2.2.2.2.2.2.2.2.1 k3_t110 k3_h55
theorem k3_off441_inb : ∀ (i : grid3.Coords) (v508 : BitVec 32) (v513 : BitVec 32) (k3_hw23 : k3_chk23 i v508 v513) (k3_t110 : Fin (k3_t110_loop i v508 v513).trips), ∀ (k3_h55 : k3_cond55 i v508 v513 = 1#1), ∀ a, (k3_off441 i v508 v513 k3_t110) a + S1x16.size a ≤ S256x128.size a := fun i v508 v513 k3_hw23 k3_t110 k3_h55 => k3_hw23.1.2.2.2.2.2.2.2.2.2.2.2.2.2.2.2.2.2.2.1 k3_t110 k3_h55
theorem k3_off442_inb : ∀ (i : grid3.Coords) (v508 : BitVec 32) (v513 : BitVec 32) (k3_hw23 : k3_chk23 i v508 v513) (k3_t110 : Fin (k3_t110_loop i v508 v513).trips), ∀ (k3_h55 : k3_cond55 i v508 v513 = 1#1), ∀ a, (k3_off442 i v508 v513 k3_t110) a + S1x16.size a ≤ S256x128.size a := fun i v508 v513 k3_hw23 k3_t110 k3_h55 => k3_hw23.1.2.2.2.2.2.2.2.2.2.2.2.2.2.2.2.2.2.2.2.1 k3_t110 k3_h55
theorem k3_t173_ok : ∀ (i : grid3.Coords) (v508 : BitVec 32) (v513 : BitVec 32) (k3_hw23 : k3_chk23 i v508 v513), ∀ (k3_h87 : k3_cond87 i v508 v513 = 1#1), (k3_t173_loop i v508 v513).OK := fun i v508 v513 k3_hw23 k3_h87 => k3_hw23.1.2.2.2.2.2.2.2.2.2.2.2.2.2.2.2.2.2.2.2.2.1 k3_h87
theorem k3_off691_inb : ∀ (i : grid3.Coords) (v508 : BitVec 32) (v513 : BitVec 32) (k3_hw23 : k3_chk23 i v508 v513) (k3_t173 : Fin (k3_t173_loop i v508 v513).trips), ∀ (k3_h87 : k3_cond87 i v508 v513 = 1#1), ∀ a, (k3_off691 i v508 v513 k3_t173) a + S1x16.size a ≤ S256x128.size a := fun i v508 v513 k3_hw23 k3_t173 k3_h87 => k3_hw23.1.2.2.2.2.2.2.2.2.2.2.2.2.2.2.2.2.2.2.2.2.2.1 k3_t173 k3_h87
theorem k3_off692_inb : ∀ (i : grid3.Coords) (v508 : BitVec 32) (v513 : BitVec 32) (k3_hw23 : k3_chk23 i v508 v513) (k3_t173 : Fin (k3_t173_loop i v508 v513).trips), ∀ (k3_h87 : k3_cond87 i v508 v513 = 1#1), ∀ a, (k3_off692 i v508 v513 k3_t173) a + S1x16.size a ≤ S256x128.size a := fun i v508 v513 k3_hw23 k3_t173 k3_h87 => k3_hw23.1.2.2.2.2.2.2.2.2.2.2.2.2.2.2.2.2.2.2.2.2.2.2.1 k3_t173 k3_h87
theorem k3_off693_inb : ∀ (i : grid3.Coords) (v508 : BitVec 32) (v513 : BitVec 32) (k3_hw23 : k3_chk23 i v508 v513) (k3_t173 : Fin (k3_t173_loop i v508 v513).trips), ∀ (k3_h87 : k3_cond87 i v508 v513 = 1#1), ∀ a, (k3_off693 i v508 v513 k3_t173) a + S1x16.size a ≤ S256x128.size a := fun i v508 v513 k3_hw23 k3_t173 k3_h87 => k3_hw23.1.2.2.2.2.2.2.2.2.2.2.2.2.2.2.2.2.2.2.2.2.2.2.2.1 k3_t173 k3_h87
theorem k3_off694_inb : ∀ (i : grid3.Coords) (v508 : BitVec 32) (v513 : BitVec 32) (k3_hw23 : k3_chk23 i v508 v513) (k3_t173 : Fin (k3_t173_loop i v508 v513).trips), ∀ (k3_h87 : k3_cond87 i v508 v513 = 1#1), ∀ a, (k3_off694 i v508 v513 k3_t173) a + S1x16.size a ≤ S256x128.size a := fun i v508 v513 k3_hw23 k3_t173 k3_h87 => k3_hw23.1.2.2.2.2.2.2.2.2.2.2.2.2.2.2.2.2.2.2.2.2.2.2.2.2.1 k3_t173 k3_h87
theorem k3_t174_ok : ∀ (i : grid3.Coords) (v508 : BitVec 32) (v513 : BitVec 32) (k3_hw23 : k3_chk23 i v508 v513), ∀ (k3_h87 : k3_cond87 i v508 v513 = 1#1), (k3_t174_loop i v508 v513).OK := fun i v508 v513 k3_hw23 k3_h87 => k3_hw23.1.2.2.2.2.2.2.2.2.2.2.2.2.2.2.2.2.2.2.2.2.2.2.2.2.2.1 k3_h87
theorem k3_off695_inb : ∀ (i : grid3.Coords) (v508 : BitVec 32) (v513 : BitVec 32) (k3_hw23 : k3_chk23 i v508 v513) (k3_t174 : Fin (k3_t174_loop i v508 v513).trips), ∀ (k3_h87 : k3_cond87 i v508 v513 = 1#1), ∀ a, (k3_off695 i v508 v513 k3_t174) a + S1x16.size a ≤ S256x128.size a := fun i v508 v513 k3_hw23 k3_t174 k3_h87 => k3_hw23.1.2.2.2.2.2.2.2.2.2.2.2.2.2.2.2.2.2.2.2.2.2.2.2.2.2.2.1 k3_t174 k3_h87
theorem k3_off696_inb : ∀ (i : grid3.Coords) (v508 : BitVec 32) (v513 : BitVec 32) (k3_hw23 : k3_chk23 i v508 v513) (k3_t174 : Fin (k3_t174_loop i v508 v513).trips), ∀ (k3_h87 : k3_cond87 i v508 v513 = 1#1), ∀ a, (k3_off696 i v508 v513 k3_t174) a + S1x16.size a ≤ S256x128.size a := fun i v508 v513 k3_hw23 k3_t174 k3_h87 => k3_hw23.1.2.2.2.2.2.2.2.2.2.2.2.2.2.2.2.2.2.2.2.2.2.2.2.2.2.2.2.1 k3_t174 k3_h87
theorem k3_off697_inb : ∀ (i : grid3.Coords) (v508 : BitVec 32) (v513 : BitVec 32) (k3_hw23 : k3_chk23 i v508 v513) (k3_t174 : Fin (k3_t174_loop i v508 v513).trips), ∀ (k3_h87 : k3_cond87 i v508 v513 = 1#1), ∀ a, (k3_off697 i v508 v513 k3_t174) a + S1x16.size a ≤ S256x128.size a := fun i v508 v513 k3_hw23 k3_t174 k3_h87 => k3_hw23.1.2.2.2.2.2.2.2.2.2.2.2.2.2.2.2.2.2.2.2.2.2.2.2.2.2.2.2.2.1 k3_t174 k3_h87
theorem k3_off698_inb : ∀ (i : grid3.Coords) (v508 : BitVec 32) (v513 : BitVec 32) (k3_hw23 : k3_chk23 i v508 v513) (k3_t174 : Fin (k3_t174_loop i v508 v513).trips), ∀ (k3_h87 : k3_cond87 i v508 v513 = 1#1), ∀ a, (k3_off698 i v508 v513 k3_t174) a + S1x16.size a ≤ S256x128.size a := fun i v508 v513 k3_hw23 k3_t174 k3_h87 => k3_hw23.1.2.2.2.2.2.2.2.2.2.2.2.2.2.2.2.2.2.2.2.2.2.2.2.2.2.2.2.2.2.1 k3_t174 k3_h87
theorem k3_t237_ok : ∀ (i : grid3.Coords) (v508 : BitVec 32) (v513 : BitVec 32) (k3_hw23 : k3_chk23 i v508 v513), ∀ (k3_h119 : k3_cond119 i v508 v513 = 1#1), (k3_t237_loop i v508 v513).OK := fun i v508 v513 k3_hw23 k3_h119 => k3_hw23.1.2.2.2.2.2.2.2.2.2.2.2.2.2.2.2.2.2.2.2.2.2.2.2.2.2.2.2.2.2.2.1 k3_h119
theorem k3_off947_inb : ∀ (i : grid3.Coords) (v508 : BitVec 32) (v513 : BitVec 32) (k3_hw23 : k3_chk23 i v508 v513) (k3_t237 : Fin (k3_t237_loop i v508 v513).trips), ∀ (k3_h119 : k3_cond119 i v508 v513 = 1#1), ∀ a, (k3_off947 i v508 v513 k3_t237) a + S1x16.size a ≤ S256x128.size a := fun i v508 v513 k3_hw23 k3_t237 k3_h119 => k3_hw23.1.2.2.2.2.2.2.2.2.2.2.2.2.2.2.2.2.2.2.2.2.2.2.2.2.2.2.2.2.2.2.2 k3_t237 k3_h119
theorem k3_off948_inb : ∀ (i : grid3.Coords) (v508 : BitVec 32) (v513 : BitVec 32) (k3_hw23 : k3_chk23 i v508 v513) (k3_t237 : Fin (k3_t237_loop i v508 v513).trips), ∀ (k3_h119 : k3_cond119 i v508 v513 = 1#1), ∀ a, (k3_off948 i v508 v513 k3_t237) a + S1x16.size a ≤ S256x128.size a := fun i v508 v513 k3_hw23 k3_t237 k3_h119 => k3_hw23.2.1 k3_t237 k3_h119
theorem k3_off949_inb : ∀ (i : grid3.Coords) (v508 : BitVec 32) (v513 : BitVec 32) (k3_hw23 : k3_chk23 i v508 v513) (k3_t237 : Fin (k3_t237_loop i v508 v513).trips), ∀ (k3_h119 : k3_cond119 i v508 v513 = 1#1), ∀ a, (k3_off949 i v508 v513 k3_t237) a + S1x16.size a ≤ S256x128.size a := fun i v508 v513 k3_hw23 k3_t237 k3_h119 => k3_hw23.2.2.1 k3_t237 k3_h119
theorem k3_off950_inb : ∀ (i : grid3.Coords) (v508 : BitVec 32) (v513 : BitVec 32) (k3_hw23 : k3_chk23 i v508 v513) (k3_t237 : Fin (k3_t237_loop i v508 v513).trips), ∀ (k3_h119 : k3_cond119 i v508 v513 = 1#1), ∀ a, (k3_off950 i v508 v513 k3_t237) a + S1x16.size a ≤ S256x128.size a := fun i v508 v513 k3_hw23 k3_t237 k3_h119 => k3_hw23.2.2.2.1 k3_t237 k3_h119
theorem k3_t238_ok : ∀ (i : grid3.Coords) (v508 : BitVec 32) (v513 : BitVec 32) (k3_hw23 : k3_chk23 i v508 v513), ∀ (k3_h119 : k3_cond119 i v508 v513 = 1#1), (k3_t238_loop i v508 v513).OK := fun i v508 v513 k3_hw23 k3_h119 => k3_hw23.2.2.2.2.1 k3_h119
theorem k3_off951_inb : ∀ (i : grid3.Coords) (v508 : BitVec 32) (v513 : BitVec 32) (k3_hw23 : k3_chk23 i v508 v513) (k3_t238 : Fin (k3_t238_loop i v508 v513).trips), ∀ (k3_h119 : k3_cond119 i v508 v513 = 1#1), ∀ a, (k3_off951 i v508 v513 k3_t238) a + S1x16.size a ≤ S256x128.size a := fun i v508 v513 k3_hw23 k3_t238 k3_h119 => k3_hw23.2.2.2.2.2.1 k3_t238 k3_h119
theorem k3_off952_inb : ∀ (i : grid3.Coords) (v508 : BitVec 32) (v513 : BitVec 32) (k3_hw23 : k3_chk23 i v508 v513) (k3_t238 : Fin (k3_t238_loop i v508 v513).trips), ∀ (k3_h119 : k3_cond119 i v508 v513 = 1#1), ∀ a, (k3_off952 i v508 v513 k3_t238) a + S1x16.size a ≤ S256x128.size a := fun i v508 v513 k3_hw23 k3_t238 k3_h119 => k3_hw23.2.2.2.2.2.2.1 k3_t238 k3_h119
theorem k3_off953_inb : ∀ (i : grid3.Coords) (v508 : BitVec 32) (v513 : BitVec 32) (k3_hw23 : k3_chk23 i v508 v513) (k3_t238 : Fin (k3_t238_loop i v508 v513).trips), ∀ (k3_h119 : k3_cond119 i v508 v513 = 1#1), ∀ a, (k3_off953 i v508 v513 k3_t238) a + S1x16.size a ≤ S256x128.size a := fun i v508 v513 k3_hw23 k3_t238 k3_h119 => k3_hw23.2.2.2.2.2.2.2.1 k3_t238 k3_h119
theorem k3_off954_inb : ∀ (i : grid3.Coords) (v508 : BitVec 32) (v513 : BitVec 32) (k3_hw23 : k3_chk23 i v508 v513) (k3_t238 : Fin (k3_t238_loop i v508 v513).trips), ∀ (k3_h119 : k3_cond119 i v508 v513 = 1#1), ∀ a, (k3_off954 i v508 v513 k3_t238) a + S1x16.size a ≤ S256x128.size a := fun i v508 v513 k3_hw23 k3_t238 k3_h119 => k3_hw23.2.2.2.2.2.2.2.2 k3_t238 k3_h119

@[reducible] def k3_t239_loop (i : grid3.Coords) (v518 : BitVec 32) (v524 : BitVec 32) : Scf.Loop 32 :=
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let c256_i32_1129 : BitVec 32 := 256#32
  let c0_i32_1128 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c768_i32_1127 : BitVec 32 := 768#32
  let v1715 : BitVec 32 := Scalar.subi v528 c768_i32_1127
  let v1716 : BitVec 32 := Scalar.maxsi c0_i32_1128 v1715
  let v1717 : BitVec 32 := Scalar.minsi c256_i32_1129 v1716
  let v1805 : BitVec 32 := Scalar.subi v1717 v1714
  let c1_i32_1195 : BitVec 32 := 1#32
  let v1807 : BitVec 32 := Scalar.divsi v1805 c1_i32_1195
  let v1808 : BitVec 32 := Scalar.muli v1807 c1_i32_1195
  let v1809 : BitVec 32 := Scalar.addi v1714 v1808
  let c1_i32_1196 : BitVec 32 := 1#32
  ⟨v1714, v1809, c1_i32_1196⟩
def k3_cond120 (i : grid3.Coords) (v518 : BitVec 32) (v524 : BitVec 32) : BitVec 1 :=
  let c256_i32_1129 : BitVec 32 := 256#32
  let c0_i32_1128 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v526 : BitVec 32 := Scalar.subi v525 v3
  let v527 : BitVec 32 := Scalar.maxsi c0_i32_228 v526
  let v528 : BitVec 32 := Scalar.minsi c1024_i32_229 v527
  let c768_i32_1127 : BitVec 32 := 768#32
  let v1715 : BitVec 32 := Scalar.subi v528 c768_i32_1127
  let v1716 : BitVec 32 := Scalar.maxsi c0_i32_1128 v1715
  let v1717 : BitVec 32 := Scalar.minsi c256_i32_1129 v1716
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let v1718 : BitVec 1 := Scalar.cmpi .sgt v1717 v1714
  let v1719 : BitVec 32 := Scalar.extui v1718
  let c0_i32_1130 : BitVec 32 := 0#32
  let v1720 : BitVec 1 := Scalar.cmpi .ne v1719 c0_i32_1130
  v1720

def k3_off955 (i : grid3.Coords) (v518 : BitVec 32) (v524 : BitVec 32) (k3_t239 : Fin (k3_t239_loop i v518 v524).trips) : Fin 2 → Nat :=
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let c1_i32_1196 : BitVec 32 := 1#32
  let arg13 : BitVec 32 := Scf.iv v1714 c1_i32_1196 k3_t239
  let v1828 : Index := Scalar.indexCast arg13
  let c64 : Index := 64#32
  ![v1828.toNat, 64]
def k3_off956 (i : grid3.Coords) (v518 : BitVec 32) (v524 : BitVec 32) (k3_t239 : Fin (k3_t239_loop i v518 v524).trips) : Fin 2 → Nat :=
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let c1_i32_1196 : BitVec 32 := 1#32
  let arg13 : BitVec 32 := Scf.iv v1714 c1_i32_1196 k3_t239
  let v1832 : Index := Scalar.indexCast arg13
  let c80 : Index := 80#32
  ![v1832.toNat, 80]
def k3_off957 (i : grid3.Coords) (v518 : BitVec 32) (v524 : BitVec 32) (k3_t239 : Fin (k3_t239_loop i v518 v524).trips) : Fin 2 → Nat :=
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let c1_i32_1196 : BitVec 32 := 1#32
  let arg13 : BitVec 32 := Scf.iv v1714 c1_i32_1196 k3_t239
  let v1836 : Index := Scalar.indexCast arg13
  let c96 : Index := 96#32
  ![v1836.toNat, 96]
def k3_off958 (i : grid3.Coords) (v518 : BitVec 32) (v524 : BitVec 32) (k3_t239 : Fin (k3_t239_loop i v518 v524).trips) : Fin 2 → Nat :=
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let c1_i32_1196 : BitVec 32 := 1#32
  let arg13 : BitVec 32 := Scf.iv v1714 c1_i32_1196 k3_t239
  let v1840 : Index := Scalar.indexCast arg13
  let c112 : Index := 112#32
  ![v1840.toNat, 112]
@[reducible] def k3_t240_loop (i : grid3.Coords) (v518 : BitVec 32) (v524 : BitVec 32) : Scf.Loop 32 :=
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let c256_i32_1129 : BitVec 32 := 256#32
  let c0_i32_1128 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c768_i32_1127 : BitVec 32 := 768#32
  let v1715 : BitVec 32 := Scalar.subi v528 c768_i32_1127
  let v1716 : BitVec 32 := Scalar.maxsi c0_i32_1128 v1715
  let v1717 : BitVec 32 := Scalar.minsi c256_i32_1129 v1716
  let v1805 : BitVec 32 := Scalar.subi v1717 v1714
  let c1_i32_1195 : BitVec 32 := 1#32
  let v1807 : BitVec 32 := Scalar.divsi v1805 c1_i32_1195
  let v1808 : BitVec 32 := Scalar.muli v1807 c1_i32_1195
  let v1809 : BitVec 32 := Scalar.addi v1714 v1808
  let v1806 : BitVec 32 := Scalar.addi v1714 v1805
  let c1_i32_1197 : BitVec 32 := 1#32
  ⟨v1809, v1806, c1_i32_1197⟩
def k3_off959 (i : grid3.Coords) (v518 : BitVec 32) (v524 : BitVec 32) (k3_t240 : Fin (k3_t240_loop i v518 v524).trips) : Fin 2 → Nat :=
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let c256_i32_1129 : BitVec 32 := 256#32
  let c0_i32_1128 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c768_i32_1127 : BitVec 32 := 768#32
  let v1715 : BitVec 32 := Scalar.subi v528 c768_i32_1127
  let v1716 : BitVec 32 := Scalar.maxsi c0_i32_1128 v1715
  let v1717 : BitVec 32 := Scalar.minsi c256_i32_1129 v1716
  let v1805 : BitVec 32 := Scalar.subi v1717 v1714
  let c1_i32_1195 : BitVec 32 := 1#32
  let v1807 : BitVec 32 := Scalar.divsi v1805 c1_i32_1195
  let v1808 : BitVec 32 := Scalar.muli v1807 c1_i32_1195
  let v1809 : BitVec 32 := Scalar.addi v1714 v1808
  let c1_i32_1197 : BitVec 32 := 1#32
  let arg13 : BitVec 32 := Scf.iv v1809 c1_i32_1197 k3_t240
  let v1828 : Index := Scalar.indexCast arg13
  let c64 : Index := 64#32
  ![v1828.toNat, 64]
def k3_off960 (i : grid3.Coords) (v518 : BitVec 32) (v524 : BitVec 32) (k3_t240 : Fin (k3_t240_loop i v518 v524).trips) : Fin 2 → Nat :=
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let c256_i32_1129 : BitVec 32 := 256#32
  let c0_i32_1128 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c768_i32_1127 : BitVec 32 := 768#32
  let v1715 : BitVec 32 := Scalar.subi v528 c768_i32_1127
  let v1716 : BitVec 32 := Scalar.maxsi c0_i32_1128 v1715
  let v1717 : BitVec 32 := Scalar.minsi c256_i32_1129 v1716
  let v1805 : BitVec 32 := Scalar.subi v1717 v1714
  let c1_i32_1195 : BitVec 32 := 1#32
  let v1807 : BitVec 32 := Scalar.divsi v1805 c1_i32_1195
  let v1808 : BitVec 32 := Scalar.muli v1807 c1_i32_1195
  let v1809 : BitVec 32 := Scalar.addi v1714 v1808
  let c1_i32_1197 : BitVec 32 := 1#32
  let arg13 : BitVec 32 := Scf.iv v1809 c1_i32_1197 k3_t240
  let v1832 : Index := Scalar.indexCast arg13
  let c80 : Index := 80#32
  ![v1832.toNat, 80]
def k3_off961 (i : grid3.Coords) (v518 : BitVec 32) (v524 : BitVec 32) (k3_t240 : Fin (k3_t240_loop i v518 v524).trips) : Fin 2 → Nat :=
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let c256_i32_1129 : BitVec 32 := 256#32
  let c0_i32_1128 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c768_i32_1127 : BitVec 32 := 768#32
  let v1715 : BitVec 32 := Scalar.subi v528 c768_i32_1127
  let v1716 : BitVec 32 := Scalar.maxsi c0_i32_1128 v1715
  let v1717 : BitVec 32 := Scalar.minsi c256_i32_1129 v1716
  let v1805 : BitVec 32 := Scalar.subi v1717 v1714
  let c1_i32_1195 : BitVec 32 := 1#32
  let v1807 : BitVec 32 := Scalar.divsi v1805 c1_i32_1195
  let v1808 : BitVec 32 := Scalar.muli v1807 c1_i32_1195
  let v1809 : BitVec 32 := Scalar.addi v1714 v1808
  let c1_i32_1197 : BitVec 32 := 1#32
  let arg13 : BitVec 32 := Scf.iv v1809 c1_i32_1197 k3_t240
  let v1836 : Index := Scalar.indexCast arg13
  let c96 : Index := 96#32
  ![v1836.toNat, 96]
def k3_off962 (i : grid3.Coords) (v518 : BitVec 32) (v524 : BitVec 32) (k3_t240 : Fin (k3_t240_loop i v518 v524).trips) : Fin 2 → Nat :=
  let c256_i32_1126 : BitVec 32 := 256#32
  let c0_i32_1125 : BitVec 32 := 0#32
  let c1024_i32_226 : BitVec 32 := 1024#32
  let c0_i32_225 : BitVec 32 := 0#32
  let c65536_i32_224 : BitVec 32 := 65536#32
  let v519 : BitVec 32 := Scalar.subi v518 c65536_i32_224
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v520 : BitVec 32 := Scalar.subi v519 v3
  let v521 : BitVec 32 := Scalar.maxsi c0_i32_225 v520
  let v522 : BitVec 32 := Scalar.minsi c1024_i32_226 v521
  let c768_i32_1124 : BitVec 32 := 768#32
  let v1712 : BitVec 32 := Scalar.subi v522 c768_i32_1124
  let v1713 : BitVec 32 := Scalar.maxsi c0_i32_1125 v1712
  let v1714 : BitVec 32 := Scalar.minsi c256_i32_1126 v1713
  let c256_i32_1129 : BitVec 32 := 256#32
  let c0_i32_1128 : BitVec 32 := 0#32
  let c1024_i32_229 : BitVec 32 := 1024#32
  let c0_i32_228 : BitVec 32 := 0#32
  let c65536_i32_227 : BitVec 32 := 65536#32
  let v525 : BitVec 32 := Scalar.subi v524 c65536_i32_227
  let v526 : BitVec 32 := Scalar.subi v525 v3
  let v527 : BitVec 32 := Scalar.maxsi c0_i32_228 v526
  let v528 : BitVec 32 := Scalar.minsi c1024_i32_229 v527
  let c768_i32_1127 : BitVec 32 := 768#32
  let v1715 : BitVec 32 := Scalar.subi v528 c768_i32_1127
  let v1716 : BitVec 32 := Scalar.maxsi c0_i32_1128 v1715
  let v1717 : BitVec 32 := Scalar.minsi c256_i32_1129 v1716
  let v1805 : BitVec 32 := Scalar.subi v1717 v1714
  let c1_i32_1195 : BitVec 32 := 1#32
  let v1807 : BitVec 32 := Scalar.divsi v1805 c1_i32_1195
  let v1808 : BitVec 32 := Scalar.muli v1807 c1_i32_1195
  let v1809 : BitVec 32 := Scalar.addi v1714 v1808
  let c1_i32_1197 : BitVec 32 := 1#32
  let arg13 : BitVec 32 := Scf.iv v1809 c1_i32_1197 k3_t240
  let v1840 : Index := Scalar.indexCast arg13
  let c112 : Index := 112#32
  ![v1840.toNat, 112]

def k3_chk24_0 (i : grid3.Coords) (v518 : BitVec 32) (v524 : BitVec 32) : Prop :=
  (∀ (k3_h24 : k3_cond24 i v518 v524 = 1#1), (k3_t47_loop i v518 v524).OK) ∧
  (∀ k3_t47 : Fin (k3_t47_loop i v518 v524).trips, ∀ (k3_h24 : k3_cond24 i v518 v524 = 1#1), ∀ a, (k3_off186 i v518 v524 k3_t47) a + S1x16.size a ≤ S256x128.size a) ∧
  (∀ k3_t47 : Fin (k3_t47_loop i v518 v524).trips, ∀ (k3_h24 : k3_cond24 i v518 v524 = 1#1), ∀ a, (k3_off187 i v518 v524 k3_t47) a + S1x16.size a ≤ S256x128.size a) ∧
  (∀ k3_t47 : Fin (k3_t47_loop i v518 v524).trips, ∀ (k3_h24 : k3_cond24 i v518 v524 = 1#1), ∀ a, (k3_off188 i v518 v524 k3_t47) a + S1x16.size a ≤ S256x128.size a) ∧
  (∀ k3_t47 : Fin (k3_t47_loop i v518 v524).trips, ∀ (k3_h24 : k3_cond24 i v518 v524 = 1#1), ∀ a, (k3_off189 i v518 v524 k3_t47) a + S1x16.size a ≤ S256x128.size a) ∧
  (∀ (k3_h24 : k3_cond24 i v518 v524 = 1#1), (k3_t48_loop i v518 v524).OK) ∧
  (∀ k3_t48 : Fin (k3_t48_loop i v518 v524).trips, ∀ (k3_h24 : k3_cond24 i v518 v524 = 1#1), ∀ a, (k3_off190 i v518 v524 k3_t48) a + S1x16.size a ≤ S256x128.size a) ∧
  (∀ k3_t48 : Fin (k3_t48_loop i v518 v524).trips, ∀ (k3_h24 : k3_cond24 i v518 v524 = 1#1), ∀ a, (k3_off191 i v518 v524 k3_t48) a + S1x16.size a ≤ S256x128.size a) ∧
  (∀ k3_t48 : Fin (k3_t48_loop i v518 v524).trips, ∀ (k3_h24 : k3_cond24 i v518 v524 = 1#1), ∀ a, (k3_off192 i v518 v524 k3_t48) a + S1x16.size a ≤ S256x128.size a) ∧
  (∀ k3_t48 : Fin (k3_t48_loop i v518 v524).trips, ∀ (k3_h24 : k3_cond24 i v518 v524 = 1#1), ∀ a, (k3_off193 i v518 v524 k3_t48) a + S1x16.size a ≤ S256x128.size a) ∧
  (∀ (k3_h56 : k3_cond56 i v518 v524 = 1#1), (k3_t111_loop i v518 v524).OK) ∧
  (∀ k3_t111 : Fin (k3_t111_loop i v518 v524).trips, ∀ (k3_h56 : k3_cond56 i v518 v524 = 1#1), ∀ a, (k3_off443 i v518 v524 k3_t111) a + S1x16.size a ≤ S256x128.size a) ∧
  (∀ k3_t111 : Fin (k3_t111_loop i v518 v524).trips, ∀ (k3_h56 : k3_cond56 i v518 v524 = 1#1), ∀ a, (k3_off444 i v518 v524 k3_t111) a + S1x16.size a ≤ S256x128.size a) ∧
  (∀ k3_t111 : Fin (k3_t111_loop i v518 v524).trips, ∀ (k3_h56 : k3_cond56 i v518 v524 = 1#1), ∀ a, (k3_off445 i v518 v524 k3_t111) a + S1x16.size a ≤ S256x128.size a) ∧
  (∀ k3_t111 : Fin (k3_t111_loop i v518 v524).trips, ∀ (k3_h56 : k3_cond56 i v518 v524 = 1#1), ∀ a, (k3_off446 i v518 v524 k3_t111) a + S1x16.size a ≤ S256x128.size a) ∧
  (∀ (k3_h56 : k3_cond56 i v518 v524 = 1#1), (k3_t112_loop i v518 v524).OK) ∧
  (∀ k3_t112 : Fin (k3_t112_loop i v518 v524).trips, ∀ (k3_h56 : k3_cond56 i v518 v524 = 1#1), ∀ a, (k3_off447 i v518 v524 k3_t112) a + S1x16.size a ≤ S256x128.size a) ∧
  (∀ k3_t112 : Fin (k3_t112_loop i v518 v524).trips, ∀ (k3_h56 : k3_cond56 i v518 v524 = 1#1), ∀ a, (k3_off448 i v518 v524 k3_t112) a + S1x16.size a ≤ S256x128.size a) ∧
  (∀ k3_t112 : Fin (k3_t112_loop i v518 v524).trips, ∀ (k3_h56 : k3_cond56 i v518 v524 = 1#1), ∀ a, (k3_off449 i v518 v524 k3_t112) a + S1x16.size a ≤ S256x128.size a) ∧
  (∀ k3_t112 : Fin (k3_t112_loop i v518 v524).trips, ∀ (k3_h56 : k3_cond56 i v518 v524 = 1#1), ∀ a, (k3_off450 i v518 v524 k3_t112) a + S1x16.size a ≤ S256x128.size a) ∧
  (∀ (k3_h88 : k3_cond88 i v518 v524 = 1#1), (k3_t175_loop i v518 v524).OK) ∧
  (∀ k3_t175 : Fin (k3_t175_loop i v518 v524).trips, ∀ (k3_h88 : k3_cond88 i v518 v524 = 1#1), ∀ a, (k3_off699 i v518 v524 k3_t175) a + S1x16.size a ≤ S256x128.size a) ∧
  (∀ k3_t175 : Fin (k3_t175_loop i v518 v524).trips, ∀ (k3_h88 : k3_cond88 i v518 v524 = 1#1), ∀ a, (k3_off700 i v518 v524 k3_t175) a + S1x16.size a ≤ S256x128.size a) ∧
  (∀ k3_t175 : Fin (k3_t175_loop i v518 v524).trips, ∀ (k3_h88 : k3_cond88 i v518 v524 = 1#1), ∀ a, (k3_off701 i v518 v524 k3_t175) a + S1x16.size a ≤ S256x128.size a) ∧
  (∀ k3_t175 : Fin (k3_t175_loop i v518 v524).trips, ∀ (k3_h88 : k3_cond88 i v518 v524 = 1#1), ∀ a, (k3_off702 i v518 v524 k3_t175) a + S1x16.size a ≤ S256x128.size a) ∧
  (∀ (k3_h88 : k3_cond88 i v518 v524 = 1#1), (k3_t176_loop i v518 v524).OK) ∧
  (∀ k3_t176 : Fin (k3_t176_loop i v518 v524).trips, ∀ (k3_h88 : k3_cond88 i v518 v524 = 1#1), ∀ a, (k3_off703 i v518 v524 k3_t176) a + S1x16.size a ≤ S256x128.size a) ∧
  (∀ k3_t176 : Fin (k3_t176_loop i v518 v524).trips, ∀ (k3_h88 : k3_cond88 i v518 v524 = 1#1), ∀ a, (k3_off704 i v518 v524 k3_t176) a + S1x16.size a ≤ S256x128.size a) ∧
  (∀ k3_t176 : Fin (k3_t176_loop i v518 v524).trips, ∀ (k3_h88 : k3_cond88 i v518 v524 = 1#1), ∀ a, (k3_off705 i v518 v524 k3_t176) a + S1x16.size a ≤ S256x128.size a) ∧
  (∀ k3_t176 : Fin (k3_t176_loop i v518 v524).trips, ∀ (k3_h88 : k3_cond88 i v518 v524 = 1#1), ∀ a, (k3_off706 i v518 v524 k3_t176) a + S1x16.size a ≤ S256x128.size a) ∧
  (∀ (k3_h120 : k3_cond120 i v518 v524 = 1#1), (k3_t239_loop i v518 v524).OK) ∧
  (∀ k3_t239 : Fin (k3_t239_loop i v518 v524).trips, ∀ (k3_h120 : k3_cond120 i v518 v524 = 1#1), ∀ a, (k3_off955 i v518 v524 k3_t239) a + S1x16.size a ≤ S256x128.size a)
def k3_chk24_1 (i : grid3.Coords) (v518 : BitVec 32) (v524 : BitVec 32) : Prop :=
  (∀ k3_t239 : Fin (k3_t239_loop i v518 v524).trips, ∀ (k3_h120 : k3_cond120 i v518 v524 = 1#1), ∀ a, (k3_off956 i v518 v524 k3_t239) a + S1x16.size a ≤ S256x128.size a) ∧
  (∀ k3_t239 : Fin (k3_t239_loop i v518 v524).trips, ∀ (k3_h120 : k3_cond120 i v518 v524 = 1#1), ∀ a, (k3_off957 i v518 v524 k3_t239) a + S1x16.size a ≤ S256x128.size a) ∧
  (∀ k3_t239 : Fin (k3_t239_loop i v518 v524).trips, ∀ (k3_h120 : k3_cond120 i v518 v524 = 1#1), ∀ a, (k3_off958 i v518 v524 k3_t239) a + S1x16.size a ≤ S256x128.size a) ∧
  (∀ (k3_h120 : k3_cond120 i v518 v524 = 1#1), (k3_t240_loop i v518 v524).OK) ∧
  (∀ k3_t240 : Fin (k3_t240_loop i v518 v524).trips, ∀ (k3_h120 : k3_cond120 i v518 v524 = 1#1), ∀ a, (k3_off959 i v518 v524 k3_t240) a + S1x16.size a ≤ S256x128.size a) ∧
  (∀ k3_t240 : Fin (k3_t240_loop i v518 v524).trips, ∀ (k3_h120 : k3_cond120 i v518 v524 = 1#1), ∀ a, (k3_off960 i v518 v524 k3_t240) a + S1x16.size a ≤ S256x128.size a) ∧
  (∀ k3_t240 : Fin (k3_t240_loop i v518 v524).trips, ∀ (k3_h120 : k3_cond120 i v518 v524 = 1#1), ∀ a, (k3_off961 i v518 v524 k3_t240) a + S1x16.size a ≤ S256x128.size a) ∧
  (∀ k3_t240 : Fin (k3_t240_loop i v518 v524).trips, ∀ (k3_h120 : k3_cond120 i v518 v524 = 1#1), ∀ a, (k3_off962 i v518 v524 k3_t240) a + S1x16.size a ≤ S256x128.size a)
def k3_chk24 (i : grid3.Coords) (v518 : BitVec 32) (v524 : BitVec 32) : Prop :=
  k3_chk24_0 i v518 v524 ∧
  k3_chk24_1 i v518 v524
theorem k3_t47_ok : ∀ (i : grid3.Coords) (v518 : BitVec 32) (v524 : BitVec 32) (k3_hw24 : k3_chk24 i v518 v524), ∀ (k3_h24 : k3_cond24 i v518 v524 = 1#1), (k3_t47_loop i v518 v524).OK := fun i v518 v524 k3_hw24 k3_h24 => k3_hw24.1.1 k3_h24
theorem k3_off186_inb : ∀ (i : grid3.Coords) (v518 : BitVec 32) (v524 : BitVec 32) (k3_hw24 : k3_chk24 i v518 v524) (k3_t47 : Fin (k3_t47_loop i v518 v524).trips), ∀ (k3_h24 : k3_cond24 i v518 v524 = 1#1), ∀ a, (k3_off186 i v518 v524 k3_t47) a + S1x16.size a ≤ S256x128.size a := fun i v518 v524 k3_hw24 k3_t47 k3_h24 => k3_hw24.1.2.1 k3_t47 k3_h24
theorem k3_off187_inb : ∀ (i : grid3.Coords) (v518 : BitVec 32) (v524 : BitVec 32) (k3_hw24 : k3_chk24 i v518 v524) (k3_t47 : Fin (k3_t47_loop i v518 v524).trips), ∀ (k3_h24 : k3_cond24 i v518 v524 = 1#1), ∀ a, (k3_off187 i v518 v524 k3_t47) a + S1x16.size a ≤ S256x128.size a := fun i v518 v524 k3_hw24 k3_t47 k3_h24 => k3_hw24.1.2.2.1 k3_t47 k3_h24
theorem k3_off188_inb : ∀ (i : grid3.Coords) (v518 : BitVec 32) (v524 : BitVec 32) (k3_hw24 : k3_chk24 i v518 v524) (k3_t47 : Fin (k3_t47_loop i v518 v524).trips), ∀ (k3_h24 : k3_cond24 i v518 v524 = 1#1), ∀ a, (k3_off188 i v518 v524 k3_t47) a + S1x16.size a ≤ S256x128.size a := fun i v518 v524 k3_hw24 k3_t47 k3_h24 => k3_hw24.1.2.2.2.1 k3_t47 k3_h24
theorem k3_off189_inb : ∀ (i : grid3.Coords) (v518 : BitVec 32) (v524 : BitVec 32) (k3_hw24 : k3_chk24 i v518 v524) (k3_t47 : Fin (k3_t47_loop i v518 v524).trips), ∀ (k3_h24 : k3_cond24 i v518 v524 = 1#1), ∀ a, (k3_off189 i v518 v524 k3_t47) a + S1x16.size a ≤ S256x128.size a := fun i v518 v524 k3_hw24 k3_t47 k3_h24 => k3_hw24.1.2.2.2.2.1 k3_t47 k3_h24
theorem k3_t48_ok : ∀ (i : grid3.Coords) (v518 : BitVec 32) (v524 : BitVec 32) (k3_hw24 : k3_chk24 i v518 v524), ∀ (k3_h24 : k3_cond24 i v518 v524 = 1#1), (k3_t48_loop i v518 v524).OK := fun i v518 v524 k3_hw24 k3_h24 => k3_hw24.1.2.2.2.2.2.1 k3_h24
theorem k3_off190_inb : ∀ (i : grid3.Coords) (v518 : BitVec 32) (v524 : BitVec 32) (k3_hw24 : k3_chk24 i v518 v524) (k3_t48 : Fin (k3_t48_loop i v518 v524).trips), ∀ (k3_h24 : k3_cond24 i v518 v524 = 1#1), ∀ a, (k3_off190 i v518 v524 k3_t48) a + S1x16.size a ≤ S256x128.size a := fun i v518 v524 k3_hw24 k3_t48 k3_h24 => k3_hw24.1.2.2.2.2.2.2.1 k3_t48 k3_h24
theorem k3_off191_inb : ∀ (i : grid3.Coords) (v518 : BitVec 32) (v524 : BitVec 32) (k3_hw24 : k3_chk24 i v518 v524) (k3_t48 : Fin (k3_t48_loop i v518 v524).trips), ∀ (k3_h24 : k3_cond24 i v518 v524 = 1#1), ∀ a, (k3_off191 i v518 v524 k3_t48) a + S1x16.size a ≤ S256x128.size a := fun i v518 v524 k3_hw24 k3_t48 k3_h24 => k3_hw24.1.2.2.2.2.2.2.2.1 k3_t48 k3_h24
theorem k3_off192_inb : ∀ (i : grid3.Coords) (v518 : BitVec 32) (v524 : BitVec 32) (k3_hw24 : k3_chk24 i v518 v524) (k3_t48 : Fin (k3_t48_loop i v518 v524).trips), ∀ (k3_h24 : k3_cond24 i v518 v524 = 1#1), ∀ a, (k3_off192 i v518 v524 k3_t48) a + S1x16.size a ≤ S256x128.size a := fun i v518 v524 k3_hw24 k3_t48 k3_h24 => k3_hw24.1.2.2.2.2.2.2.2.2.1 k3_t48 k3_h24
theorem k3_off193_inb : ∀ (i : grid3.Coords) (v518 : BitVec 32) (v524 : BitVec 32) (k3_hw24 : k3_chk24 i v518 v524) (k3_t48 : Fin (k3_t48_loop i v518 v524).trips), ∀ (k3_h24 : k3_cond24 i v518 v524 = 1#1), ∀ a, (k3_off193 i v518 v524 k3_t48) a + S1x16.size a ≤ S256x128.size a := fun i v518 v524 k3_hw24 k3_t48 k3_h24 => k3_hw24.1.2.2.2.2.2.2.2.2.2.1 k3_t48 k3_h24
theorem k3_t111_ok : ∀ (i : grid3.Coords) (v518 : BitVec 32) (v524 : BitVec 32) (k3_hw24 : k3_chk24 i v518 v524), ∀ (k3_h56 : k3_cond56 i v518 v524 = 1#1), (k3_t111_loop i v518 v524).OK := fun i v518 v524 k3_hw24 k3_h56 => k3_hw24.1.2.2.2.2.2.2.2.2.2.2.1 k3_h56
theorem k3_off443_inb : ∀ (i : grid3.Coords) (v518 : BitVec 32) (v524 : BitVec 32) (k3_hw24 : k3_chk24 i v518 v524) (k3_t111 : Fin (k3_t111_loop i v518 v524).trips), ∀ (k3_h56 : k3_cond56 i v518 v524 = 1#1), ∀ a, (k3_off443 i v518 v524 k3_t111) a + S1x16.size a ≤ S256x128.size a := fun i v518 v524 k3_hw24 k3_t111 k3_h56 => k3_hw24.1.2.2.2.2.2.2.2.2.2.2.2.1 k3_t111 k3_h56
theorem k3_off444_inb : ∀ (i : grid3.Coords) (v518 : BitVec 32) (v524 : BitVec 32) (k3_hw24 : k3_chk24 i v518 v524) (k3_t111 : Fin (k3_t111_loop i v518 v524).trips), ∀ (k3_h56 : k3_cond56 i v518 v524 = 1#1), ∀ a, (k3_off444 i v518 v524 k3_t111) a + S1x16.size a ≤ S256x128.size a := fun i v518 v524 k3_hw24 k3_t111 k3_h56 => k3_hw24.1.2.2.2.2.2.2.2.2.2.2.2.2.1 k3_t111 k3_h56
theorem k3_off445_inb : ∀ (i : grid3.Coords) (v518 : BitVec 32) (v524 : BitVec 32) (k3_hw24 : k3_chk24 i v518 v524) (k3_t111 : Fin (k3_t111_loop i v518 v524).trips), ∀ (k3_h56 : k3_cond56 i v518 v524 = 1#1), ∀ a, (k3_off445 i v518 v524 k3_t111) a + S1x16.size a ≤ S256x128.size a := fun i v518 v524 k3_hw24 k3_t111 k3_h56 => k3_hw24.1.2.2.2.2.2.2.2.2.2.2.2.2.2.1 k3_t111 k3_h56
theorem k3_off446_inb : ∀ (i : grid3.Coords) (v518 : BitVec 32) (v524 : BitVec 32) (k3_hw24 : k3_chk24 i v518 v524) (k3_t111 : Fin (k3_t111_loop i v518 v524).trips), ∀ (k3_h56 : k3_cond56 i v518 v524 = 1#1), ∀ a, (k3_off446 i v518 v524 k3_t111) a + S1x16.size a ≤ S256x128.size a := fun i v518 v524 k3_hw24 k3_t111 k3_h56 => k3_hw24.1.2.2.2.2.2.2.2.2.2.2.2.2.2.2.1 k3_t111 k3_h56
theorem k3_t112_ok : ∀ (i : grid3.Coords) (v518 : BitVec 32) (v524 : BitVec 32) (k3_hw24 : k3_chk24 i v518 v524), ∀ (k3_h56 : k3_cond56 i v518 v524 = 1#1), (k3_t112_loop i v518 v524).OK := fun i v518 v524 k3_hw24 k3_h56 => k3_hw24.1.2.2.2.2.2.2.2.2.2.2.2.2.2.2.2.1 k3_h56
theorem k3_off447_inb : ∀ (i : grid3.Coords) (v518 : BitVec 32) (v524 : BitVec 32) (k3_hw24 : k3_chk24 i v518 v524) (k3_t112 : Fin (k3_t112_loop i v518 v524).trips), ∀ (k3_h56 : k3_cond56 i v518 v524 = 1#1), ∀ a, (k3_off447 i v518 v524 k3_t112) a + S1x16.size a ≤ S256x128.size a := fun i v518 v524 k3_hw24 k3_t112 k3_h56 => k3_hw24.1.2.2.2.2.2.2.2.2.2.2.2.2.2.2.2.2.1 k3_t112 k3_h56
theorem k3_off448_inb : ∀ (i : grid3.Coords) (v518 : BitVec 32) (v524 : BitVec 32) (k3_hw24 : k3_chk24 i v518 v524) (k3_t112 : Fin (k3_t112_loop i v518 v524).trips), ∀ (k3_h56 : k3_cond56 i v518 v524 = 1#1), ∀ a, (k3_off448 i v518 v524 k3_t112) a + S1x16.size a ≤ S256x128.size a := fun i v518 v524 k3_hw24 k3_t112 k3_h56 => k3_hw24.1.2.2.2.2.2.2.2.2.2.2.2.2.2.2.2.2.2.1 k3_t112 k3_h56
theorem k3_off449_inb : ∀ (i : grid3.Coords) (v518 : BitVec 32) (v524 : BitVec 32) (k3_hw24 : k3_chk24 i v518 v524) (k3_t112 : Fin (k3_t112_loop i v518 v524).trips), ∀ (k3_h56 : k3_cond56 i v518 v524 = 1#1), ∀ a, (k3_off449 i v518 v524 k3_t112) a + S1x16.size a ≤ S256x128.size a := fun i v518 v524 k3_hw24 k3_t112 k3_h56 => k3_hw24.1.2.2.2.2.2.2.2.2.2.2.2.2.2.2.2.2.2.2.1 k3_t112 k3_h56
theorem k3_off450_inb : ∀ (i : grid3.Coords) (v518 : BitVec 32) (v524 : BitVec 32) (k3_hw24 : k3_chk24 i v518 v524) (k3_t112 : Fin (k3_t112_loop i v518 v524).trips), ∀ (k3_h56 : k3_cond56 i v518 v524 = 1#1), ∀ a, (k3_off450 i v518 v524 k3_t112) a + S1x16.size a ≤ S256x128.size a := fun i v518 v524 k3_hw24 k3_t112 k3_h56 => k3_hw24.1.2.2.2.2.2.2.2.2.2.2.2.2.2.2.2.2.2.2.2.1 k3_t112 k3_h56
theorem k3_t175_ok : ∀ (i : grid3.Coords) (v518 : BitVec 32) (v524 : BitVec 32) (k3_hw24 : k3_chk24 i v518 v524), ∀ (k3_h88 : k3_cond88 i v518 v524 = 1#1), (k3_t175_loop i v518 v524).OK := fun i v518 v524 k3_hw24 k3_h88 => k3_hw24.1.2.2.2.2.2.2.2.2.2.2.2.2.2.2.2.2.2.2.2.2.1 k3_h88
theorem k3_off699_inb : ∀ (i : grid3.Coords) (v518 : BitVec 32) (v524 : BitVec 32) (k3_hw24 : k3_chk24 i v518 v524) (k3_t175 : Fin (k3_t175_loop i v518 v524).trips), ∀ (k3_h88 : k3_cond88 i v518 v524 = 1#1), ∀ a, (k3_off699 i v518 v524 k3_t175) a + S1x16.size a ≤ S256x128.size a := fun i v518 v524 k3_hw24 k3_t175 k3_h88 => k3_hw24.1.2.2.2.2.2.2.2.2.2.2.2.2.2.2.2.2.2.2.2.2.2.1 k3_t175 k3_h88
theorem k3_off700_inb : ∀ (i : grid3.Coords) (v518 : BitVec 32) (v524 : BitVec 32) (k3_hw24 : k3_chk24 i v518 v524) (k3_t175 : Fin (k3_t175_loop i v518 v524).trips), ∀ (k3_h88 : k3_cond88 i v518 v524 = 1#1), ∀ a, (k3_off700 i v518 v524 k3_t175) a + S1x16.size a ≤ S256x128.size a := fun i v518 v524 k3_hw24 k3_t175 k3_h88 => k3_hw24.1.2.2.2.2.2.2.2.2.2.2.2.2.2.2.2.2.2.2.2.2.2.2.1 k3_t175 k3_h88
theorem k3_off701_inb : ∀ (i : grid3.Coords) (v518 : BitVec 32) (v524 : BitVec 32) (k3_hw24 : k3_chk24 i v518 v524) (k3_t175 : Fin (k3_t175_loop i v518 v524).trips), ∀ (k3_h88 : k3_cond88 i v518 v524 = 1#1), ∀ a, (k3_off701 i v518 v524 k3_t175) a + S1x16.size a ≤ S256x128.size a := fun i v518 v524 k3_hw24 k3_t175 k3_h88 => k3_hw24.1.2.2.2.2.2.2.2.2.2.2.2.2.2.2.2.2.2.2.2.2.2.2.2.1 k3_t175 k3_h88
theorem k3_off702_inb : ∀ (i : grid3.Coords) (v518 : BitVec 32) (v524 : BitVec 32) (k3_hw24 : k3_chk24 i v518 v524) (k3_t175 : Fin (k3_t175_loop i v518 v524).trips), ∀ (k3_h88 : k3_cond88 i v518 v524 = 1#1), ∀ a, (k3_off702 i v518 v524 k3_t175) a + S1x16.size a ≤ S256x128.size a := fun i v518 v524 k3_hw24 k3_t175 k3_h88 => k3_hw24.1.2.2.2.2.2.2.2.2.2.2.2.2.2.2.2.2.2.2.2.2.2.2.2.2.1 k3_t175 k3_h88
theorem k3_t176_ok : ∀ (i : grid3.Coords) (v518 : BitVec 32) (v524 : BitVec 32) (k3_hw24 : k3_chk24 i v518 v524), ∀ (k3_h88 : k3_cond88 i v518 v524 = 1#1), (k3_t176_loop i v518 v524).OK := fun i v518 v524 k3_hw24 k3_h88 => k3_hw24.1.2.2.2.2.2.2.2.2.2.2.2.2.2.2.2.2.2.2.2.2.2.2.2.2.2.1 k3_h88
theorem k3_off703_inb : ∀ (i : grid3.Coords) (v518 : BitVec 32) (v524 : BitVec 32) (k3_hw24 : k3_chk24 i v518 v524) (k3_t176 : Fin (k3_t176_loop i v518 v524).trips), ∀ (k3_h88 : k3_cond88 i v518 v524 = 1#1), ∀ a, (k3_off703 i v518 v524 k3_t176) a + S1x16.size a ≤ S256x128.size a := fun i v518 v524 k3_hw24 k3_t176 k3_h88 => k3_hw24.1.2.2.2.2.2.2.2.2.2.2.2.2.2.2.2.2.2.2.2.2.2.2.2.2.2.2.1 k3_t176 k3_h88
theorem k3_off704_inb : ∀ (i : grid3.Coords) (v518 : BitVec 32) (v524 : BitVec 32) (k3_hw24 : k3_chk24 i v518 v524) (k3_t176 : Fin (k3_t176_loop i v518 v524).trips), ∀ (k3_h88 : k3_cond88 i v518 v524 = 1#1), ∀ a, (k3_off704 i v518 v524 k3_t176) a + S1x16.size a ≤ S256x128.size a := fun i v518 v524 k3_hw24 k3_t176 k3_h88 => k3_hw24.1.2.2.2.2.2.2.2.2.2.2.2.2.2.2.2.2.2.2.2.2.2.2.2.2.2.2.2.1 k3_t176 k3_h88
theorem k3_off705_inb : ∀ (i : grid3.Coords) (v518 : BitVec 32) (v524 : BitVec 32) (k3_hw24 : k3_chk24 i v518 v524) (k3_t176 : Fin (k3_t176_loop i v518 v524).trips), ∀ (k3_h88 : k3_cond88 i v518 v524 = 1#1), ∀ a, (k3_off705 i v518 v524 k3_t176) a + S1x16.size a ≤ S256x128.size a := fun i v518 v524 k3_hw24 k3_t176 k3_h88 => k3_hw24.1.2.2.2.2.2.2.2.2.2.2.2.2.2.2.2.2.2.2.2.2.2.2.2.2.2.2.2.2.1 k3_t176 k3_h88
theorem k3_off706_inb : ∀ (i : grid3.Coords) (v518 : BitVec 32) (v524 : BitVec 32) (k3_hw24 : k3_chk24 i v518 v524) (k3_t176 : Fin (k3_t176_loop i v518 v524).trips), ∀ (k3_h88 : k3_cond88 i v518 v524 = 1#1), ∀ a, (k3_off706 i v518 v524 k3_t176) a + S1x16.size a ≤ S256x128.size a := fun i v518 v524 k3_hw24 k3_t176 k3_h88 => k3_hw24.1.2.2.2.2.2.2.2.2.2.2.2.2.2.2.2.2.2.2.2.2.2.2.2.2.2.2.2.2.2.1 k3_t176 k3_h88
theorem k3_t239_ok : ∀ (i : grid3.Coords) (v518 : BitVec 32) (v524 : BitVec 32) (k3_hw24 : k3_chk24 i v518 v524), ∀ (k3_h120 : k3_cond120 i v518 v524 = 1#1), (k3_t239_loop i v518 v524).OK := fun i v518 v524 k3_hw24 k3_h120 => k3_hw24.1.2.2.2.2.2.2.2.2.2.2.2.2.2.2.2.2.2.2.2.2.2.2.2.2.2.2.2.2.2.2.1 k3_h120
theorem k3_off955_inb : ∀ (i : grid3.Coords) (v518 : BitVec 32) (v524 : BitVec 32) (k3_hw24 : k3_chk24 i v518 v524) (k3_t239 : Fin (k3_t239_loop i v518 v524).trips), ∀ (k3_h120 : k3_cond120 i v518 v524 = 1#1), ∀ a, (k3_off955 i v518 v524 k3_t239) a + S1x16.size a ≤ S256x128.size a := fun i v518 v524 k3_hw24 k3_t239 k3_h120 => k3_hw24.1.2.2.2.2.2.2.2.2.2.2.2.2.2.2.2.2.2.2.2.2.2.2.2.2.2.2.2.2.2.2.2 k3_t239 k3_h120
theorem k3_off956_inb : ∀ (i : grid3.Coords) (v518 : BitVec 32) (v524 : BitVec 32) (k3_hw24 : k3_chk24 i v518 v524) (k3_t239 : Fin (k3_t239_loop i v518 v524).trips), ∀ (k3_h120 : k3_cond120 i v518 v524 = 1#1), ∀ a, (k3_off956 i v518 v524 k3_t239) a + S1x16.size a ≤ S256x128.size a := fun i v518 v524 k3_hw24 k3_t239 k3_h120 => k3_hw24.2.1 k3_t239 k3_h120
theorem k3_off957_inb : ∀ (i : grid3.Coords) (v518 : BitVec 32) (v524 : BitVec 32) (k3_hw24 : k3_chk24 i v518 v524) (k3_t239 : Fin (k3_t239_loop i v518 v524).trips), ∀ (k3_h120 : k3_cond120 i v518 v524 = 1#1), ∀ a, (k3_off957 i v518 v524 k3_t239) a + S1x16.size a ≤ S256x128.size a := fun i v518 v524 k3_hw24 k3_t239 k3_h120 => k3_hw24.2.2.1 k3_t239 k3_h120
theorem k3_off958_inb : ∀ (i : grid3.Coords) (v518 : BitVec 32) (v524 : BitVec 32) (k3_hw24 : k3_chk24 i v518 v524) (k3_t239 : Fin (k3_t239_loop i v518 v524).trips), ∀ (k3_h120 : k3_cond120 i v518 v524 = 1#1), ∀ a, (k3_off958 i v518 v524 k3_t239) a + S1x16.size a ≤ S256x128.size a := fun i v518 v524 k3_hw24 k3_t239 k3_h120 => k3_hw24.2.2.2.1 k3_t239 k3_h120
theorem k3_t240_ok : ∀ (i : grid3.Coords) (v518 : BitVec 32) (v524 : BitVec 32) (k3_hw24 : k3_chk24 i v518 v524), ∀ (k3_h120 : k3_cond120 i v518 v524 = 1#1), (k3_t240_loop i v518 v524).OK := fun i v518 v524 k3_hw24 k3_h120 => k3_hw24.2.2.2.2.1 k3_h120
theorem k3_off959_inb : ∀ (i : grid3.Coords) (v518 : BitVec 32) (v524 : BitVec 32) (k3_hw24 : k3_chk24 i v518 v524) (k3_t240 : Fin (k3_t240_loop i v518 v524).trips), ∀ (k3_h120 : k3_cond120 i v518 v524 = 1#1), ∀ a, (k3_off959 i v518 v524 k3_t240) a + S1x16.size a ≤ S256x128.size a := fun i v518 v524 k3_hw24 k3_t240 k3_h120 => k3_hw24.2.2.2.2.2.1 k3_t240 k3_h120
theorem k3_off960_inb : ∀ (i : grid3.Coords) (v518 : BitVec 32) (v524 : BitVec 32) (k3_hw24 : k3_chk24 i v518 v524) (k3_t240 : Fin (k3_t240_loop i v518 v524).trips), ∀ (k3_h120 : k3_cond120 i v518 v524 = 1#1), ∀ a, (k3_off960 i v518 v524 k3_t240) a + S1x16.size a ≤ S256x128.size a := fun i v518 v524 k3_hw24 k3_t240 k3_h120 => k3_hw24.2.2.2.2.2.2.1 k3_t240 k3_h120
theorem k3_off961_inb : ∀ (i : grid3.Coords) (v518 : BitVec 32) (v524 : BitVec 32) (k3_hw24 : k3_chk24 i v518 v524) (k3_t240 : Fin (k3_t240_loop i v518 v524).trips), ∀ (k3_h120 : k3_cond120 i v518 v524 = 1#1), ∀ a, (k3_off961 i v518 v524 k3_t240) a + S1x16.size a ≤ S256x128.size a := fun i v518 v524 k3_hw24 k3_t240 k3_h120 => k3_hw24.2.2.2.2.2.2.2.1 k3_t240 k3_h120
theorem k3_off962_inb : ∀ (i : grid3.Coords) (v518 : BitVec 32) (v524 : BitVec 32) (k3_hw24 : k3_chk24 i v518 v524) (k3_t240 : Fin (k3_t240_loop i v518 v524).trips), ∀ (k3_h120 : k3_cond120 i v518 v524 = 1#1), ∀ a, (k3_off962 i v518 v524 k3_t240) a + S1x16.size a ≤ S256x128.size a := fun i v518 v524 k3_hw24 k3_t240 k3_h120 => k3_hw24.2.2.2.2.2.2.2.2 k3_t240 k3_h120

@[reducible] def k3_t241_loop (i : grid3.Coords) (v530 : BitVec 32) (v535 : BitVec 32) : Scf.Loop 32 :=
  let c256_i32_1133 : BitVec 32 := 256#32
  let c0_i32_1132 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let c256_i32_1136 : BitVec 32 := 256#32
  let c0_i32_1135 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c768_i32_1134 : BitVec 32 := 768#32
  let v1724 : BitVec 32 := Scalar.subi v538 c768_i32_1134
  let v1725 : BitVec 32 := Scalar.maxsi c0_i32_1135 v1724
  let v1726 : BitVec 32 := Scalar.minsi c256_i32_1136 v1725
  let v1805 : BitVec 32 := Scalar.subi v1726 v1723
  let c1_i32_1195 : BitVec 32 := 1#32
  let v1807 : BitVec 32 := Scalar.divsi v1805 c1_i32_1195
  let v1808 : BitVec 32 := Scalar.muli v1807 c1_i32_1195
  let v1809 : BitVec 32 := Scalar.addi v1723 v1808
  let c1_i32_1196 : BitVec 32 := 1#32
  ⟨v1723, v1809, c1_i32_1196⟩
def k3_cond121 (i : grid3.Coords) (v530 : BitVec 32) (v535 : BitVec 32) : BitVec 1 :=
  let c256_i32_1136 : BitVec 32 := 256#32
  let c0_i32_1135 : BitVec 32 := 0#32
  let c1024_i32_233 : BitVec 32 := 1024#32
  let c0_i32_232 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v536 : BitVec 32 := Scalar.subi v535 v3
  let v537 : BitVec 32 := Scalar.maxsi c0_i32_232 v536
  let v538 : BitVec 32 := Scalar.minsi c1024_i32_233 v537
  let c768_i32_1134 : BitVec 32 := 768#32
  let v1724 : BitVec 32 := Scalar.subi v538 c768_i32_1134
  let v1725 : BitVec 32 := Scalar.maxsi c0_i32_1135 v1724
  let v1726 : BitVec 32 := Scalar.minsi c256_i32_1136 v1725
  let c256_i32_1133 : BitVec 32 := 256#32
  let c0_i32_1132 : BitVec 32 := 0#32
  let c1024_i32_231 : BitVec 32 := 1024#32
  let c0_i32_230 : BitVec 32 := 0#32
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let v1727 : BitVec 1 := Scalar.cmpi .sgt v1726 v1723
  let v1728 : BitVec 32 := Scalar.extui v1727
  let c0_i32_1137 : BitVec 32 := 0#32
  let v1729 : BitVec 1 := Scalar.cmpi .ne v1728 c0_i32_1137
  v1729

def k3_off963 (i : grid3.Coords) (v530 : BitVec 32) (v535 : BitVec 32) (k3_t241 : Fin (k3_t241_loop i v530 v535).trips) : Fin 2 → Nat :=
  let c256_i32_1133 : BitVec 32 := 256#32
  let c0_i32_1132 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let c1_i32_1196 : BitVec 32 := 1#32
  let arg13 : BitVec 32 := Scf.iv v1723 c1_i32_1196 k3_t241
  let v1828 : Index := Scalar.indexCast arg13
  let c0_1206 : Index := 0#32
  ![v1828.toNat, 0]
def k3_off964 (i : grid3.Coords) (v530 : BitVec 32) (v535 : BitVec 32) (k3_t241 : Fin (k3_t241_loop i v530 v535).trips) : Fin 2 → Nat :=
  let c256_i32_1133 : BitVec 32 := 256#32
  let c0_i32_1132 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let c1_i32_1196 : BitVec 32 := 1#32
  let arg13 : BitVec 32 := Scf.iv v1723 c1_i32_1196 k3_t241
  let v1832 : Index := Scalar.indexCast arg13
  let c16_1207 : Index := 16#32
  ![v1832.toNat, 16]
def k3_off965 (i : grid3.Coords) (v530 : BitVec 32) (v535 : BitVec 32) (k3_t241 : Fin (k3_t241_loop i v530 v535).trips) : Fin 2 → Nat :=
  let c256_i32_1133 : BitVec 32 := 256#32
  let c0_i32_1132 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let c1_i32_1196 : BitVec 32 := 1#32
  let arg13 : BitVec 32 := Scf.iv v1723 c1_i32_1196 k3_t241
  let v1836 : Index := Scalar.indexCast arg13
  let c32_1208 : Index := 32#32
  ![v1836.toNat, 32]
def k3_off966 (i : grid3.Coords) (v530 : BitVec 32) (v535 : BitVec 32) (k3_t241 : Fin (k3_t241_loop i v530 v535).trips) : Fin 2 → Nat :=
  let c256_i32_1133 : BitVec 32 := 256#32
  let c0_i32_1132 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let c1_i32_1196 : BitVec 32 := 1#32
  let arg13 : BitVec 32 := Scf.iv v1723 c1_i32_1196 k3_t241
  let v1840 : Index := Scalar.indexCast arg13
  let c48_1209 : Index := 48#32
  ![v1840.toNat, 48]
@[reducible] def k3_t242_loop (i : grid3.Coords) (v530 : BitVec 32) (v535 : BitVec 32) : Scf.Loop 32 :=
  let c256_i32_1133 : BitVec 32 := 256#32
  let c0_i32_1132 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let c256_i32_1136 : BitVec 32 := 256#32
  let c0_i32_1135 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c768_i32_1134 : BitVec 32 := 768#32
  let v1724 : BitVec 32 := Scalar.subi v538 c768_i32_1134
  let v1725 : BitVec 32 := Scalar.maxsi c0_i32_1135 v1724
  let v1726 : BitVec 32 := Scalar.minsi c256_i32_1136 v1725
  let v1805 : BitVec 32 := Scalar.subi v1726 v1723
  let c1_i32_1195 : BitVec 32 := 1#32
  let v1807 : BitVec 32 := Scalar.divsi v1805 c1_i32_1195
  let v1808 : BitVec 32 := Scalar.muli v1807 c1_i32_1195
  let v1809 : BitVec 32 := Scalar.addi v1723 v1808
  let v1806 : BitVec 32 := Scalar.addi v1723 v1805
  let c1_i32_1197 : BitVec 32 := 1#32
  ⟨v1809, v1806, c1_i32_1197⟩
def k3_off967 (i : grid3.Coords) (v530 : BitVec 32) (v535 : BitVec 32) (k3_t242 : Fin (k3_t242_loop i v530 v535).trips) : Fin 2 → Nat :=
  let c256_i32_1133 : BitVec 32 := 256#32
  let c0_i32_1132 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let c256_i32_1136 : BitVec 32 := 256#32
  let c0_i32_1135 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c768_i32_1134 : BitVec 32 := 768#32
  let v1724 : BitVec 32 := Scalar.subi v538 c768_i32_1134
  let v1725 : BitVec 32 := Scalar.maxsi c0_i32_1135 v1724
  let v1726 : BitVec 32 := Scalar.minsi c256_i32_1136 v1725
  let v1805 : BitVec 32 := Scalar.subi v1726 v1723
  let c1_i32_1195 : BitVec 32 := 1#32
  let v1807 : BitVec 32 := Scalar.divsi v1805 c1_i32_1195
  let v1808 : BitVec 32 := Scalar.muli v1807 c1_i32_1195
  let v1809 : BitVec 32 := Scalar.addi v1723 v1808
  let c1_i32_1197 : BitVec 32 := 1#32
  let arg13 : BitVec 32 := Scf.iv v1809 c1_i32_1197 k3_t242
  let v1828 : Index := Scalar.indexCast arg13
  let c0_1206 : Index := 0#32
  ![v1828.toNat, 0]
def k3_off968 (i : grid3.Coords) (v530 : BitVec 32) (v535 : BitVec 32) (k3_t242 : Fin (k3_t242_loop i v530 v535).trips) : Fin 2 → Nat :=
  let c256_i32_1133 : BitVec 32 := 256#32
  let c0_i32_1132 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let c256_i32_1136 : BitVec 32 := 256#32
  let c0_i32_1135 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c768_i32_1134 : BitVec 32 := 768#32
  let v1724 : BitVec 32 := Scalar.subi v538 c768_i32_1134
  let v1725 : BitVec 32 := Scalar.maxsi c0_i32_1135 v1724
  let v1726 : BitVec 32 := Scalar.minsi c256_i32_1136 v1725
  let v1805 : BitVec 32 := Scalar.subi v1726 v1723
  let c1_i32_1195 : BitVec 32 := 1#32
  let v1807 : BitVec 32 := Scalar.divsi v1805 c1_i32_1195
  let v1808 : BitVec 32 := Scalar.muli v1807 c1_i32_1195
  let v1809 : BitVec 32 := Scalar.addi v1723 v1808
  let c1_i32_1197 : BitVec 32 := 1#32
  let arg13 : BitVec 32 := Scf.iv v1809 c1_i32_1197 k3_t242
  let v1832 : Index := Scalar.indexCast arg13
  let c16_1207 : Index := 16#32
  ![v1832.toNat, 16]
def k3_off969 (i : grid3.Coords) (v530 : BitVec 32) (v535 : BitVec 32) (k3_t242 : Fin (k3_t242_loop i v530 v535).trips) : Fin 2 → Nat :=
  let c256_i32_1133 : BitVec 32 := 256#32
  let c0_i32_1132 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let c256_i32_1136 : BitVec 32 := 256#32
  let c0_i32_1135 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c768_i32_1134 : BitVec 32 := 768#32
  let v1724 : BitVec 32 := Scalar.subi v538 c768_i32_1134
  let v1725 : BitVec 32 := Scalar.maxsi c0_i32_1135 v1724
  let v1726 : BitVec 32 := Scalar.minsi c256_i32_1136 v1725
  let v1805 : BitVec 32 := Scalar.subi v1726 v1723
  let c1_i32_1195 : BitVec 32 := 1#32
  let v1807 : BitVec 32 := Scalar.divsi v1805 c1_i32_1195
  let v1808 : BitVec 32 := Scalar.muli v1807 c1_i32_1195
  let v1809 : BitVec 32 := Scalar.addi v1723 v1808
  let c1_i32_1197 : BitVec 32 := 1#32
  let arg13 : BitVec 32 := Scf.iv v1809 c1_i32_1197 k3_t242
  let v1836 : Index := Scalar.indexCast arg13
  let c32_1208 : Index := 32#32
  ![v1836.toNat, 32]
def k3_off970 (i : grid3.Coords) (v530 : BitVec 32) (v535 : BitVec 32) (k3_t242 : Fin (k3_t242_loop i v530 v535).trips) : Fin 2 → Nat :=
  let c256_i32_1133 : BitVec 32 := 256#32
  let c0_i32_1132 : BitVec 32 := 0#32
  let c1024_i32_231 : BitVec 32 := 1024#32
  let c0_i32_230 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v531 : BitVec 32 := Scalar.subi v530 v3
  let v532 : BitVec 32 := Scalar.maxsi c0_i32_230 v531
  let v533 : BitVec 32 := Scalar.minsi c1024_i32_231 v532
  let c768_i32_1131 : BitVec 32 := 768#32
  let v1721 : BitVec 32 := Scalar.subi v533 c768_i32_1131
  let v1722 : BitVec 32 := Scalar.maxsi c0_i32_1132 v1721
  let v1723 : BitVec 32 := Scalar.minsi c256_i32_1133 v1722
  let c256_i32_1136 : BitVec 32 := 256#32
  let c0_i32_1135 : BitVec 32 := 0#32
  let c1024_i32_233 : BitVec 32 := 1024#32
  let c0_i32_232 : BitVec 32 := 0#32
  let v536 : BitVec 32 := Scalar.subi v535 v3
  let v537 : BitVec 32 := Scalar.maxsi c0_i32_232 v536
  let v538 : BitVec 32 := Scalar.minsi c1024_i32_233 v537
  let c768_i32_1134 : BitVec 32 := 768#32
  let v1724 : BitVec 32 := Scalar.subi v538 c768_i32_1134
  let v1725 : BitVec 32 := Scalar.maxsi c0_i32_1135 v1724
  let v1726 : BitVec 32 := Scalar.minsi c256_i32_1136 v1725
  let v1805 : BitVec 32 := Scalar.subi v1726 v1723
  let c1_i32_1195 : BitVec 32 := 1#32
  let v1807 : BitVec 32 := Scalar.divsi v1805 c1_i32_1195
  let v1808 : BitVec 32 := Scalar.muli v1807 c1_i32_1195
  let v1809 : BitVec 32 := Scalar.addi v1723 v1808
  let c1_i32_1197 : BitVec 32 := 1#32
  let arg13 : BitVec 32 := Scf.iv v1809 c1_i32_1197 k3_t242
  let v1840 : Index := Scalar.indexCast arg13
  let c48_1209 : Index := 48#32
  ![v1840.toNat, 48]

def k3_chk25_0 (i : grid3.Coords) (v530 : BitVec 32) (v535 : BitVec 32) : Prop :=
  (∀ (k3_h25 : k3_cond25 i v530 v535 = 1#1), (k3_t49_loop i v530 v535).OK) ∧
  (∀ k3_t49 : Fin (k3_t49_loop i v530 v535).trips, ∀ (k3_h25 : k3_cond25 i v530 v535 = 1#1), ∀ a, (k3_off194 i v530 v535 k3_t49) a + S1x16.size a ≤ S256x128.size a) ∧
  (∀ k3_t49 : Fin (k3_t49_loop i v530 v535).trips, ∀ (k3_h25 : k3_cond25 i v530 v535 = 1#1), ∀ a, (k3_off195 i v530 v535 k3_t49) a + S1x16.size a ≤ S256x128.size a) ∧
  (∀ k3_t49 : Fin (k3_t49_loop i v530 v535).trips, ∀ (k3_h25 : k3_cond25 i v530 v535 = 1#1), ∀ a, (k3_off196 i v530 v535 k3_t49) a + S1x16.size a ≤ S256x128.size a) ∧
  (∀ k3_t49 : Fin (k3_t49_loop i v530 v535).trips, ∀ (k3_h25 : k3_cond25 i v530 v535 = 1#1), ∀ a, (k3_off197 i v530 v535 k3_t49) a + S1x16.size a ≤ S256x128.size a) ∧
  (∀ (k3_h25 : k3_cond25 i v530 v535 = 1#1), (k3_t50_loop i v530 v535).OK) ∧
  (∀ k3_t50 : Fin (k3_t50_loop i v530 v535).trips, ∀ (k3_h25 : k3_cond25 i v530 v535 = 1#1), ∀ a, (k3_off198 i v530 v535 k3_t50) a + S1x16.size a ≤ S256x128.size a) ∧
  (∀ k3_t50 : Fin (k3_t50_loop i v530 v535).trips, ∀ (k3_h25 : k3_cond25 i v530 v535 = 1#1), ∀ a, (k3_off199 i v530 v535 k3_t50) a + S1x16.size a ≤ S256x128.size a) ∧
  (∀ k3_t50 : Fin (k3_t50_loop i v530 v535).trips, ∀ (k3_h25 : k3_cond25 i v530 v535 = 1#1), ∀ a, (k3_off200 i v530 v535 k3_t50) a + S1x16.size a ≤ S256x128.size a) ∧
  (∀ k3_t50 : Fin (k3_t50_loop i v530 v535).trips, ∀ (k3_h25 : k3_cond25 i v530 v535 = 1#1), ∀ a, (k3_off201 i v530 v535 k3_t50) a + S1x16.size a ≤ S256x128.size a) ∧
  (∀ (k3_h57 : k3_cond57 i v530 v535 = 1#1), (k3_t113_loop i v530 v535).OK) ∧
  (∀ k3_t113 : Fin (k3_t113_loop i v530 v535).trips, ∀ (k3_h57 : k3_cond57 i v530 v535 = 1#1), ∀ a, (k3_off451 i v530 v535 k3_t113) a + S1x16.size a ≤ S256x128.size a) ∧
  (∀ k3_t113 : Fin (k3_t113_loop i v530 v535).trips, ∀ (k3_h57 : k3_cond57 i v530 v535 = 1#1), ∀ a, (k3_off452 i v530 v535 k3_t113) a + S1x16.size a ≤ S256x128.size a) ∧
  (∀ k3_t113 : Fin (k3_t113_loop i v530 v535).trips, ∀ (k3_h57 : k3_cond57 i v530 v535 = 1#1), ∀ a, (k3_off453 i v530 v535 k3_t113) a + S1x16.size a ≤ S256x128.size a) ∧
  (∀ k3_t113 : Fin (k3_t113_loop i v530 v535).trips, ∀ (k3_h57 : k3_cond57 i v530 v535 = 1#1), ∀ a, (k3_off454 i v530 v535 k3_t113) a + S1x16.size a ≤ S256x128.size a) ∧
  (∀ (k3_h57 : k3_cond57 i v530 v535 = 1#1), (k3_t114_loop i v530 v535).OK) ∧
  (∀ k3_t114 : Fin (k3_t114_loop i v530 v535).trips, ∀ (k3_h57 : k3_cond57 i v530 v535 = 1#1), ∀ a, (k3_off455 i v530 v535 k3_t114) a + S1x16.size a ≤ S256x128.size a) ∧
  (∀ k3_t114 : Fin (k3_t114_loop i v530 v535).trips, ∀ (k3_h57 : k3_cond57 i v530 v535 = 1#1), ∀ a, (k3_off456 i v530 v535 k3_t114) a + S1x16.size a ≤ S256x128.size a) ∧
  (∀ k3_t114 : Fin (k3_t114_loop i v530 v535).trips, ∀ (k3_h57 : k3_cond57 i v530 v535 = 1#1), ∀ a, (k3_off457 i v530 v535 k3_t114) a + S1x16.size a ≤ S256x128.size a) ∧
  (∀ k3_t114 : Fin (k3_t114_loop i v530 v535).trips, ∀ (k3_h57 : k3_cond57 i v530 v535 = 1#1), ∀ a, (k3_off458 i v530 v535 k3_t114) a + S1x16.size a ≤ S256x128.size a) ∧
  (∀ (k3_h89 : k3_cond89 i v530 v535 = 1#1), (k3_t177_loop i v530 v535).OK) ∧
  (∀ k3_t177 : Fin (k3_t177_loop i v530 v535).trips, ∀ (k3_h89 : k3_cond89 i v530 v535 = 1#1), ∀ a, (k3_off707 i v530 v535 k3_t177) a + S1x16.size a ≤ S256x128.size a) ∧
  (∀ k3_t177 : Fin (k3_t177_loop i v530 v535).trips, ∀ (k3_h89 : k3_cond89 i v530 v535 = 1#1), ∀ a, (k3_off708 i v530 v535 k3_t177) a + S1x16.size a ≤ S256x128.size a) ∧
  (∀ k3_t177 : Fin (k3_t177_loop i v530 v535).trips, ∀ (k3_h89 : k3_cond89 i v530 v535 = 1#1), ∀ a, (k3_off709 i v530 v535 k3_t177) a + S1x16.size a ≤ S256x128.size a) ∧
  (∀ k3_t177 : Fin (k3_t177_loop i v530 v535).trips, ∀ (k3_h89 : k3_cond89 i v530 v535 = 1#1), ∀ a, (k3_off710 i v530 v535 k3_t177) a + S1x16.size a ≤ S256x128.size a) ∧
  (∀ (k3_h89 : k3_cond89 i v530 v535 = 1#1), (k3_t178_loop i v530 v535).OK) ∧
  (∀ k3_t178 : Fin (k3_t178_loop i v530 v535).trips, ∀ (k3_h89 : k3_cond89 i v530 v535 = 1#1), ∀ a, (k3_off711 i v530 v535 k3_t178) a + S1x16.size a ≤ S256x128.size a) ∧
  (∀ k3_t178 : Fin (k3_t178_loop i v530 v535).trips, ∀ (k3_h89 : k3_cond89 i v530 v535 = 1#1), ∀ a, (k3_off712 i v530 v535 k3_t178) a + S1x16.size a ≤ S256x128.size a) ∧
  (∀ k3_t178 : Fin (k3_t178_loop i v530 v535).trips, ∀ (k3_h89 : k3_cond89 i v530 v535 = 1#1), ∀ a, (k3_off713 i v530 v535 k3_t178) a + S1x16.size a ≤ S256x128.size a) ∧
  (∀ k3_t178 : Fin (k3_t178_loop i v530 v535).trips, ∀ (k3_h89 : k3_cond89 i v530 v535 = 1#1), ∀ a, (k3_off714 i v530 v535 k3_t178) a + S1x16.size a ≤ S256x128.size a) ∧
  (∀ (k3_h121 : k3_cond121 i v530 v535 = 1#1), (k3_t241_loop i v530 v535).OK) ∧
  (∀ k3_t241 : Fin (k3_t241_loop i v530 v535).trips, ∀ (k3_h121 : k3_cond121 i v530 v535 = 1#1), ∀ a, (k3_off963 i v530 v535 k3_t241) a + S1x16.size a ≤ S256x128.size a)
def k3_chk25_1 (i : grid3.Coords) (v530 : BitVec 32) (v535 : BitVec 32) : Prop :=
  (∀ k3_t241 : Fin (k3_t241_loop i v530 v535).trips, ∀ (k3_h121 : k3_cond121 i v530 v535 = 1#1), ∀ a, (k3_off964 i v530 v535 k3_t241) a + S1x16.size a ≤ S256x128.size a) ∧
  (∀ k3_t241 : Fin (k3_t241_loop i v530 v535).trips, ∀ (k3_h121 : k3_cond121 i v530 v535 = 1#1), ∀ a, (k3_off965 i v530 v535 k3_t241) a + S1x16.size a ≤ S256x128.size a) ∧
  (∀ k3_t241 : Fin (k3_t241_loop i v530 v535).trips, ∀ (k3_h121 : k3_cond121 i v530 v535 = 1#1), ∀ a, (k3_off966 i v530 v535 k3_t241) a + S1x16.size a ≤ S256x128.size a) ∧
  (∀ (k3_h121 : k3_cond121 i v530 v535 = 1#1), (k3_t242_loop i v530 v535).OK) ∧
  (∀ k3_t242 : Fin (k3_t242_loop i v530 v535).trips, ∀ (k3_h121 : k3_cond121 i v530 v535 = 1#1), ∀ a, (k3_off967 i v530 v535 k3_t242) a + S1x16.size a ≤ S256x128.size a) ∧
  (∀ k3_t242 : Fin (k3_t242_loop i v530 v535).trips, ∀ (k3_h121 : k3_cond121 i v530 v535 = 1#1), ∀ a, (k3_off968 i v530 v535 k3_t242) a + S1x16.size a ≤ S256x128.size a) ∧
  (∀ k3_t242 : Fin (k3_t242_loop i v530 v535).trips, ∀ (k3_h121 : k3_cond121 i v530 v535 = 1#1), ∀ a, (k3_off969 i v530 v535 k3_t242) a + S1x16.size a ≤ S256x128.size a) ∧
  (∀ k3_t242 : Fin (k3_t242_loop i v530 v535).trips, ∀ (k3_h121 : k3_cond121 i v530 v535 = 1#1), ∀ a, (k3_off970 i v530 v535 k3_t242) a + S1x16.size a ≤ S256x128.size a)
def k3_chk25 (i : grid3.Coords) (v530 : BitVec 32) (v535 : BitVec 32) : Prop :=
  k3_chk25_0 i v530 v535 ∧
  k3_chk25_1 i v530 v535
theorem k3_t49_ok : ∀ (i : grid3.Coords) (v530 : BitVec 32) (v535 : BitVec 32) (k3_hw25 : k3_chk25 i v530 v535), ∀ (k3_h25 : k3_cond25 i v530 v535 = 1#1), (k3_t49_loop i v530 v535).OK := fun i v530 v535 k3_hw25 k3_h25 => k3_hw25.1.1 k3_h25
theorem k3_off194_inb : ∀ (i : grid3.Coords) (v530 : BitVec 32) (v535 : BitVec 32) (k3_hw25 : k3_chk25 i v530 v535) (k3_t49 : Fin (k3_t49_loop i v530 v535).trips), ∀ (k3_h25 : k3_cond25 i v530 v535 = 1#1), ∀ a, (k3_off194 i v530 v535 k3_t49) a + S1x16.size a ≤ S256x128.size a := fun i v530 v535 k3_hw25 k3_t49 k3_h25 => k3_hw25.1.2.1 k3_t49 k3_h25
theorem k3_off195_inb : ∀ (i : grid3.Coords) (v530 : BitVec 32) (v535 : BitVec 32) (k3_hw25 : k3_chk25 i v530 v535) (k3_t49 : Fin (k3_t49_loop i v530 v535).trips), ∀ (k3_h25 : k3_cond25 i v530 v535 = 1#1), ∀ a, (k3_off195 i v530 v535 k3_t49) a + S1x16.size a ≤ S256x128.size a := fun i v530 v535 k3_hw25 k3_t49 k3_h25 => k3_hw25.1.2.2.1 k3_t49 k3_h25
theorem k3_off196_inb : ∀ (i : grid3.Coords) (v530 : BitVec 32) (v535 : BitVec 32) (k3_hw25 : k3_chk25 i v530 v535) (k3_t49 : Fin (k3_t49_loop i v530 v535).trips), ∀ (k3_h25 : k3_cond25 i v530 v535 = 1#1), ∀ a, (k3_off196 i v530 v535 k3_t49) a + S1x16.size a ≤ S256x128.size a := fun i v530 v535 k3_hw25 k3_t49 k3_h25 => k3_hw25.1.2.2.2.1 k3_t49 k3_h25
theorem k3_off197_inb : ∀ (i : grid3.Coords) (v530 : BitVec 32) (v535 : BitVec 32) (k3_hw25 : k3_chk25 i v530 v535) (k3_t49 : Fin (k3_t49_loop i v530 v535).trips), ∀ (k3_h25 : k3_cond25 i v530 v535 = 1#1), ∀ a, (k3_off197 i v530 v535 k3_t49) a + S1x16.size a ≤ S256x128.size a := fun i v530 v535 k3_hw25 k3_t49 k3_h25 => k3_hw25.1.2.2.2.2.1 k3_t49 k3_h25
theorem k3_t50_ok : ∀ (i : grid3.Coords) (v530 : BitVec 32) (v535 : BitVec 32) (k3_hw25 : k3_chk25 i v530 v535), ∀ (k3_h25 : k3_cond25 i v530 v535 = 1#1), (k3_t50_loop i v530 v535).OK := fun i v530 v535 k3_hw25 k3_h25 => k3_hw25.1.2.2.2.2.2.1 k3_h25
theorem k3_off198_inb : ∀ (i : grid3.Coords) (v530 : BitVec 32) (v535 : BitVec 32) (k3_hw25 : k3_chk25 i v530 v535) (k3_t50 : Fin (k3_t50_loop i v530 v535).trips), ∀ (k3_h25 : k3_cond25 i v530 v535 = 1#1), ∀ a, (k3_off198 i v530 v535 k3_t50) a + S1x16.size a ≤ S256x128.size a := fun i v530 v535 k3_hw25 k3_t50 k3_h25 => k3_hw25.1.2.2.2.2.2.2.1 k3_t50 k3_h25
theorem k3_off199_inb : ∀ (i : grid3.Coords) (v530 : BitVec 32) (v535 : BitVec 32) (k3_hw25 : k3_chk25 i v530 v535) (k3_t50 : Fin (k3_t50_loop i v530 v535).trips), ∀ (k3_h25 : k3_cond25 i v530 v535 = 1#1), ∀ a, (k3_off199 i v530 v535 k3_t50) a + S1x16.size a ≤ S256x128.size a := fun i v530 v535 k3_hw25 k3_t50 k3_h25 => k3_hw25.1.2.2.2.2.2.2.2.1 k3_t50 k3_h25
theorem k3_off200_inb : ∀ (i : grid3.Coords) (v530 : BitVec 32) (v535 : BitVec 32) (k3_hw25 : k3_chk25 i v530 v535) (k3_t50 : Fin (k3_t50_loop i v530 v535).trips), ∀ (k3_h25 : k3_cond25 i v530 v535 = 1#1), ∀ a, (k3_off200 i v530 v535 k3_t50) a + S1x16.size a ≤ S256x128.size a := fun i v530 v535 k3_hw25 k3_t50 k3_h25 => k3_hw25.1.2.2.2.2.2.2.2.2.1 k3_t50 k3_h25
theorem k3_off201_inb : ∀ (i : grid3.Coords) (v530 : BitVec 32) (v535 : BitVec 32) (k3_hw25 : k3_chk25 i v530 v535) (k3_t50 : Fin (k3_t50_loop i v530 v535).trips), ∀ (k3_h25 : k3_cond25 i v530 v535 = 1#1), ∀ a, (k3_off201 i v530 v535 k3_t50) a + S1x16.size a ≤ S256x128.size a := fun i v530 v535 k3_hw25 k3_t50 k3_h25 => k3_hw25.1.2.2.2.2.2.2.2.2.2.1 k3_t50 k3_h25
theorem k3_t113_ok : ∀ (i : grid3.Coords) (v530 : BitVec 32) (v535 : BitVec 32) (k3_hw25 : k3_chk25 i v530 v535), ∀ (k3_h57 : k3_cond57 i v530 v535 = 1#1), (k3_t113_loop i v530 v535).OK := fun i v530 v535 k3_hw25 k3_h57 => k3_hw25.1.2.2.2.2.2.2.2.2.2.2.1 k3_h57
theorem k3_off451_inb : ∀ (i : grid3.Coords) (v530 : BitVec 32) (v535 : BitVec 32) (k3_hw25 : k3_chk25 i v530 v535) (k3_t113 : Fin (k3_t113_loop i v530 v535).trips), ∀ (k3_h57 : k3_cond57 i v530 v535 = 1#1), ∀ a, (k3_off451 i v530 v535 k3_t113) a + S1x16.size a ≤ S256x128.size a := fun i v530 v535 k3_hw25 k3_t113 k3_h57 => k3_hw25.1.2.2.2.2.2.2.2.2.2.2.2.1 k3_t113 k3_h57
theorem k3_off452_inb : ∀ (i : grid3.Coords) (v530 : BitVec 32) (v535 : BitVec 32) (k3_hw25 : k3_chk25 i v530 v535) (k3_t113 : Fin (k3_t113_loop i v530 v535).trips), ∀ (k3_h57 : k3_cond57 i v530 v535 = 1#1), ∀ a, (k3_off452 i v530 v535 k3_t113) a + S1x16.size a ≤ S256x128.size a := fun i v530 v535 k3_hw25 k3_t113 k3_h57 => k3_hw25.1.2.2.2.2.2.2.2.2.2.2.2.2.1 k3_t113 k3_h57
theorem k3_off453_inb : ∀ (i : grid3.Coords) (v530 : BitVec 32) (v535 : BitVec 32) (k3_hw25 : k3_chk25 i v530 v535) (k3_t113 : Fin (k3_t113_loop i v530 v535).trips), ∀ (k3_h57 : k3_cond57 i v530 v535 = 1#1), ∀ a, (k3_off453 i v530 v535 k3_t113) a + S1x16.size a ≤ S256x128.size a := fun i v530 v535 k3_hw25 k3_t113 k3_h57 => k3_hw25.1.2.2.2.2.2.2.2.2.2.2.2.2.2.1 k3_t113 k3_h57
theorem k3_off454_inb : ∀ (i : grid3.Coords) (v530 : BitVec 32) (v535 : BitVec 32) (k3_hw25 : k3_chk25 i v530 v535) (k3_t113 : Fin (k3_t113_loop i v530 v535).trips), ∀ (k3_h57 : k3_cond57 i v530 v535 = 1#1), ∀ a, (k3_off454 i v530 v535 k3_t113) a + S1x16.size a ≤ S256x128.size a := fun i v530 v535 k3_hw25 k3_t113 k3_h57 => k3_hw25.1.2.2.2.2.2.2.2.2.2.2.2.2.2.2.1 k3_t113 k3_h57
theorem k3_t114_ok : ∀ (i : grid3.Coords) (v530 : BitVec 32) (v535 : BitVec 32) (k3_hw25 : k3_chk25 i v530 v535), ∀ (k3_h57 : k3_cond57 i v530 v535 = 1#1), (k3_t114_loop i v530 v535).OK := fun i v530 v535 k3_hw25 k3_h57 => k3_hw25.1.2.2.2.2.2.2.2.2.2.2.2.2.2.2.2.1 k3_h57
theorem k3_off455_inb : ∀ (i : grid3.Coords) (v530 : BitVec 32) (v535 : BitVec 32) (k3_hw25 : k3_chk25 i v530 v535) (k3_t114 : Fin (k3_t114_loop i v530 v535).trips), ∀ (k3_h57 : k3_cond57 i v530 v535 = 1#1), ∀ a, (k3_off455 i v530 v535 k3_t114) a + S1x16.size a ≤ S256x128.size a := fun i v530 v535 k3_hw25 k3_t114 k3_h57 => k3_hw25.1.2.2.2.2.2.2.2.2.2.2.2.2.2.2.2.2.1 k3_t114 k3_h57
theorem k3_off456_inb : ∀ (i : grid3.Coords) (v530 : BitVec 32) (v535 : BitVec 32) (k3_hw25 : k3_chk25 i v530 v535) (k3_t114 : Fin (k3_t114_loop i v530 v535).trips), ∀ (k3_h57 : k3_cond57 i v530 v535 = 1#1), ∀ a, (k3_off456 i v530 v535 k3_t114) a + S1x16.size a ≤ S256x128.size a := fun i v530 v535 k3_hw25 k3_t114 k3_h57 => k3_hw25.1.2.2.2.2.2.2.2.2.2.2.2.2.2.2.2.2.2.1 k3_t114 k3_h57
theorem k3_off457_inb : ∀ (i : grid3.Coords) (v530 : BitVec 32) (v535 : BitVec 32) (k3_hw25 : k3_chk25 i v530 v535) (k3_t114 : Fin (k3_t114_loop i v530 v535).trips), ∀ (k3_h57 : k3_cond57 i v530 v535 = 1#1), ∀ a, (k3_off457 i v530 v535 k3_t114) a + S1x16.size a ≤ S256x128.size a := fun i v530 v535 k3_hw25 k3_t114 k3_h57 => k3_hw25.1.2.2.2.2.2.2.2.2.2.2.2.2.2.2.2.2.2.2.1 k3_t114 k3_h57
theorem k3_off458_inb : ∀ (i : grid3.Coords) (v530 : BitVec 32) (v535 : BitVec 32) (k3_hw25 : k3_chk25 i v530 v535) (k3_t114 : Fin (k3_t114_loop i v530 v535).trips), ∀ (k3_h57 : k3_cond57 i v530 v535 = 1#1), ∀ a, (k3_off458 i v530 v535 k3_t114) a + S1x16.size a ≤ S256x128.size a := fun i v530 v535 k3_hw25 k3_t114 k3_h57 => k3_hw25.1.2.2.2.2.2.2.2.2.2.2.2.2.2.2.2.2.2.2.2.1 k3_t114 k3_h57
theorem k3_t177_ok : ∀ (i : grid3.Coords) (v530 : BitVec 32) (v535 : BitVec 32) (k3_hw25 : k3_chk25 i v530 v535), ∀ (k3_h89 : k3_cond89 i v530 v535 = 1#1), (k3_t177_loop i v530 v535).OK := fun i v530 v535 k3_hw25 k3_h89 => k3_hw25.1.2.2.2.2.2.2.2.2.2.2.2.2.2.2.2.2.2.2.2.2.1 k3_h89
theorem k3_off707_inb : ∀ (i : grid3.Coords) (v530 : BitVec 32) (v535 : BitVec 32) (k3_hw25 : k3_chk25 i v530 v535) (k3_t177 : Fin (k3_t177_loop i v530 v535).trips), ∀ (k3_h89 : k3_cond89 i v530 v535 = 1#1), ∀ a, (k3_off707 i v530 v535 k3_t177) a + S1x16.size a ≤ S256x128.size a := fun i v530 v535 k3_hw25 k3_t177 k3_h89 => k3_hw25.1.2.2.2.2.2.2.2.2.2.2.2.2.2.2.2.2.2.2.2.2.2.1 k3_t177 k3_h89
theorem k3_off708_inb : ∀ (i : grid3.Coords) (v530 : BitVec 32) (v535 : BitVec 32) (k3_hw25 : k3_chk25 i v530 v535) (k3_t177 : Fin (k3_t177_loop i v530 v535).trips), ∀ (k3_h89 : k3_cond89 i v530 v535 = 1#1), ∀ a, (k3_off708 i v530 v535 k3_t177) a + S1x16.size a ≤ S256x128.size a := fun i v530 v535 k3_hw25 k3_t177 k3_h89 => k3_hw25.1.2.2.2.2.2.2.2.2.2.2.2.2.2.2.2.2.2.2.2.2.2.2.1 k3_t177 k3_h89
theorem k3_off709_inb : ∀ (i : grid3.Coords) (v530 : BitVec 32) (v535 : BitVec 32) (k3_hw25 : k3_chk25 i v530 v535) (k3_t177 : Fin (k3_t177_loop i v530 v535).trips), ∀ (k3_h89 : k3_cond89 i v530 v535 = 1#1), ∀ a, (k3_off709 i v530 v535 k3_t177) a + S1x16.size a ≤ S256x128.size a := fun i v530 v535 k3_hw25 k3_t177 k3_h89 => k3_hw25.1.2.2.2.2.2.2.2.2.2.2.2.2.2.2.2.2.2.2.2.2.2.2.2.1 k3_t177 k3_h89
theorem k3_off710_inb : ∀ (i : grid3.Coords) (v530 : BitVec 32) (v535 : BitVec 32) (k3_hw25 : k3_chk25 i v530 v535) (k3_t177 : Fin (k3_t177_loop i v530 v535).trips), ∀ (k3_h89 : k3_cond89 i v530 v535 = 1#1), ∀ a, (k3_off710 i v530 v535 k3_t177) a + S1x16.size a ≤ S256x128.size a := fun i v530 v535 k3_hw25 k3_t177 k3_h89 => k3_hw25.1.2.2.2.2.2.2.2.2.2.2.2.2.2.2.2.2.2.2.2.2.2.2.2.2.1 k3_t177 k3_h89
theorem k3_t178_ok : ∀ (i : grid3.Coords) (v530 : BitVec 32) (v535 : BitVec 32) (k3_hw25 : k3_chk25 i v530 v535), ∀ (k3_h89 : k3_cond89 i v530 v535 = 1#1), (k3_t178_loop i v530 v535).OK := fun i v530 v535 k3_hw25 k3_h89 => k3_hw25.1.2.2.2.2.2.2.2.2.2.2.2.2.2.2.2.2.2.2.2.2.2.2.2.2.2.1 k3_h89
theorem k3_off711_inb : ∀ (i : grid3.Coords) (v530 : BitVec 32) (v535 : BitVec 32) (k3_hw25 : k3_chk25 i v530 v535) (k3_t178 : Fin (k3_t178_loop i v530 v535).trips), ∀ (k3_h89 : k3_cond89 i v530 v535 = 1#1), ∀ a, (k3_off711 i v530 v535 k3_t178) a + S1x16.size a ≤ S256x128.size a := fun i v530 v535 k3_hw25 k3_t178 k3_h89 => k3_hw25.1.2.2.2.2.2.2.2.2.2.2.2.2.2.2.2.2.2.2.2.2.2.2.2.2.2.2.1 k3_t178 k3_h89
theorem k3_off712_inb : ∀ (i : grid3.Coords) (v530 : BitVec 32) (v535 : BitVec 32) (k3_hw25 : k3_chk25 i v530 v535) (k3_t178 : Fin (k3_t178_loop i v530 v535).trips), ∀ (k3_h89 : k3_cond89 i v530 v535 = 1#1), ∀ a, (k3_off712 i v530 v535 k3_t178) a + S1x16.size a ≤ S256x128.size a := fun i v530 v535 k3_hw25 k3_t178 k3_h89 => k3_hw25.1.2.2.2.2.2.2.2.2.2.2.2.2.2.2.2.2.2.2.2.2.2.2.2.2.2.2.2.1 k3_t178 k3_h89
theorem k3_off713_inb : ∀ (i : grid3.Coords) (v530 : BitVec 32) (v535 : BitVec 32) (k3_hw25 : k3_chk25 i v530 v535) (k3_t178 : Fin (k3_t178_loop i v530 v535).trips), ∀ (k3_h89 : k3_cond89 i v530 v535 = 1#1), ∀ a, (k3_off713 i v530 v535 k3_t178) a + S1x16.size a ≤ S256x128.size a := fun i v530 v535 k3_hw25 k3_t178 k3_h89 => k3_hw25.1.2.2.2.2.2.2.2.2.2.2.2.2.2.2.2.2.2.2.2.2.2.2.2.2.2.2.2.2.1 k3_t178 k3_h89
theorem k3_off714_inb : ∀ (i : grid3.Coords) (v530 : BitVec 32) (v535 : BitVec 32) (k3_hw25 : k3_chk25 i v530 v535) (k3_t178 : Fin (k3_t178_loop i v530 v535).trips), ∀ (k3_h89 : k3_cond89 i v530 v535 = 1#1), ∀ a, (k3_off714 i v530 v535 k3_t178) a + S1x16.size a ≤ S256x128.size a := fun i v530 v535 k3_hw25 k3_t178 k3_h89 => k3_hw25.1.2.2.2.2.2.2.2.2.2.2.2.2.2.2.2.2.2.2.2.2.2.2.2.2.2.2.2.2.2.1 k3_t178 k3_h89
theorem k3_t241_ok : ∀ (i : grid3.Coords) (v530 : BitVec 32) (v535 : BitVec 32) (k3_hw25 : k3_chk25 i v530 v535), ∀ (k3_h121 : k3_cond121 i v530 v535 = 1#1), (k3_t241_loop i v530 v535).OK := fun i v530 v535 k3_hw25 k3_h121 => k3_hw25.1.2.2.2.2.2.2.2.2.2.2.2.2.2.2.2.2.2.2.2.2.2.2.2.2.2.2.2.2.2.2.1 k3_h121
theorem k3_off963_inb : ∀ (i : grid3.Coords) (v530 : BitVec 32) (v535 : BitVec 32) (k3_hw25 : k3_chk25 i v530 v535) (k3_t241 : Fin (k3_t241_loop i v530 v535).trips), ∀ (k3_h121 : k3_cond121 i v530 v535 = 1#1), ∀ a, (k3_off963 i v530 v535 k3_t241) a + S1x16.size a ≤ S256x128.size a := fun i v530 v535 k3_hw25 k3_t241 k3_h121 => k3_hw25.1.2.2.2.2.2.2.2.2.2.2.2.2.2.2.2.2.2.2.2.2.2.2.2.2.2.2.2.2.2.2.2 k3_t241 k3_h121
theorem k3_off964_inb : ∀ (i : grid3.Coords) (v530 : BitVec 32) (v535 : BitVec 32) (k3_hw25 : k3_chk25 i v530 v535) (k3_t241 : Fin (k3_t241_loop i v530 v535).trips), ∀ (k3_h121 : k3_cond121 i v530 v535 = 1#1), ∀ a, (k3_off964 i v530 v535 k3_t241) a + S1x16.size a ≤ S256x128.size a := fun i v530 v535 k3_hw25 k3_t241 k3_h121 => k3_hw25.2.1 k3_t241 k3_h121
theorem k3_off965_inb : ∀ (i : grid3.Coords) (v530 : BitVec 32) (v535 : BitVec 32) (k3_hw25 : k3_chk25 i v530 v535) (k3_t241 : Fin (k3_t241_loop i v530 v535).trips), ∀ (k3_h121 : k3_cond121 i v530 v535 = 1#1), ∀ a, (k3_off965 i v530 v535 k3_t241) a + S1x16.size a ≤ S256x128.size a := fun i v530 v535 k3_hw25 k3_t241 k3_h121 => k3_hw25.2.2.1 k3_t241 k3_h121
theorem k3_off966_inb : ∀ (i : grid3.Coords) (v530 : BitVec 32) (v535 : BitVec 32) (k3_hw25 : k3_chk25 i v530 v535) (k3_t241 : Fin (k3_t241_loop i v530 v535).trips), ∀ (k3_h121 : k3_cond121 i v530 v535 = 1#1), ∀ a, (k3_off966 i v530 v535 k3_t241) a + S1x16.size a ≤ S256x128.size a := fun i v530 v535 k3_hw25 k3_t241 k3_h121 => k3_hw25.2.2.2.1 k3_t241 k3_h121
theorem k3_t242_ok : ∀ (i : grid3.Coords) (v530 : BitVec 32) (v535 : BitVec 32) (k3_hw25 : k3_chk25 i v530 v535), ∀ (k3_h121 : k3_cond121 i v530 v535 = 1#1), (k3_t242_loop i v530 v535).OK := fun i v530 v535 k3_hw25 k3_h121 => k3_hw25.2.2.2.2.1 k3_h121
theorem k3_off967_inb : ∀ (i : grid3.Coords) (v530 : BitVec 32) (v535 : BitVec 32) (k3_hw25 : k3_chk25 i v530 v535) (k3_t242 : Fin (k3_t242_loop i v530 v535).trips), ∀ (k3_h121 : k3_cond121 i v530 v535 = 1#1), ∀ a, (k3_off967 i v530 v535 k3_t242) a + S1x16.size a ≤ S256x128.size a := fun i v530 v535 k3_hw25 k3_t242 k3_h121 => k3_hw25.2.2.2.2.2.1 k3_t242 k3_h121
theorem k3_off968_inb : ∀ (i : grid3.Coords) (v530 : BitVec 32) (v535 : BitVec 32) (k3_hw25 : k3_chk25 i v530 v535) (k3_t242 : Fin (k3_t242_loop i v530 v535).trips), ∀ (k3_h121 : k3_cond121 i v530 v535 = 1#1), ∀ a, (k3_off968 i v530 v535 k3_t242) a + S1x16.size a ≤ S256x128.size a := fun i v530 v535 k3_hw25 k3_t242 k3_h121 => k3_hw25.2.2.2.2.2.2.1 k3_t242 k3_h121
theorem k3_off969_inb : ∀ (i : grid3.Coords) (v530 : BitVec 32) (v535 : BitVec 32) (k3_hw25 : k3_chk25 i v530 v535) (k3_t242 : Fin (k3_t242_loop i v530 v535).trips), ∀ (k3_h121 : k3_cond121 i v530 v535 = 1#1), ∀ a, (k3_off969 i v530 v535 k3_t242) a + S1x16.size a ≤ S256x128.size a := fun i v530 v535 k3_hw25 k3_t242 k3_h121 => k3_hw25.2.2.2.2.2.2.2.1 k3_t242 k3_h121
theorem k3_off970_inb : ∀ (i : grid3.Coords) (v530 : BitVec 32) (v535 : BitVec 32) (k3_hw25 : k3_chk25 i v530 v535) (k3_t242 : Fin (k3_t242_loop i v530 v535).trips), ∀ (k3_h121 : k3_cond121 i v530 v535 = 1#1), ∀ a, (k3_off970 i v530 v535 k3_t242) a + S1x16.size a ≤ S256x128.size a := fun i v530 v535 k3_hw25 k3_t242 k3_h121 => k3_hw25.2.2.2.2.2.2.2.2 k3_t242 k3_h121

@[reducible] def k3_t243_loop (i : grid3.Coords) (v540 : BitVec 32) (v546 : BitVec 32) : Scf.Loop 32 :=
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let c256_i32_1143 : BitVec 32 := 256#32
  let c0_i32_1142 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c768_i32_1141 : BitVec 32 := 768#32
  let v1733 : BitVec 32 := Scalar.subi v550 c768_i32_1141
  let v1734 : BitVec 32 := Scalar.maxsi c0_i32_1142 v1733
  let v1735 : BitVec 32 := Scalar.minsi c256_i32_1143 v1734
  let v1805 : BitVec 32 := Scalar.subi v1735 v1732
  let c1_i32_1195 : BitVec 32 := 1#32
  let v1807 : BitVec 32 := Scalar.divsi v1805 c1_i32_1195
  let v1808 : BitVec 32 := Scalar.muli v1807 c1_i32_1195
  let v1809 : BitVec 32 := Scalar.addi v1732 v1808
  let c1_i32_1196 : BitVec 32 := 1#32
  ⟨v1732, v1809, c1_i32_1196⟩
def k3_cond122 (i : grid3.Coords) (v540 : BitVec 32) (v546 : BitVec 32) : BitVec 1 :=
  let c256_i32_1143 : BitVec 32 := 256#32
  let c0_i32_1142 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v548 : BitVec 32 := Scalar.subi v547 v3
  let v549 : BitVec 32 := Scalar.maxsi c0_i32_238 v548
  let v550 : BitVec 32 := Scalar.minsi c1024_i32_239 v549
  let c768_i32_1141 : BitVec 32 := 768#32
  let v1733 : BitVec 32 := Scalar.subi v550 c768_i32_1141
  let v1734 : BitVec 32 := Scalar.maxsi c0_i32_1142 v1733
  let v1735 : BitVec 32 := Scalar.minsi c256_i32_1143 v1734
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let v1736 : BitVec 1 := Scalar.cmpi .sgt v1735 v1732
  let v1737 : BitVec 32 := Scalar.extui v1736
  let c0_i32_1144 : BitVec 32 := 0#32
  let v1738 : BitVec 1 := Scalar.cmpi .ne v1737 c0_i32_1144
  v1738

def k3_off971 (i : grid3.Coords) (v540 : BitVec 32) (v546 : BitVec 32) (k3_t243 : Fin (k3_t243_loop i v540 v546).trips) : Fin 2 → Nat :=
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let c1_i32_1196 : BitVec 32 := 1#32
  let arg13 : BitVec 32 := Scf.iv v1732 c1_i32_1196 k3_t243
  let v1828 : Index := Scalar.indexCast arg13
  let c64 : Index := 64#32
  ![v1828.toNat, 64]
def k3_off972 (i : grid3.Coords) (v540 : BitVec 32) (v546 : BitVec 32) (k3_t243 : Fin (k3_t243_loop i v540 v546).trips) : Fin 2 → Nat :=
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let c1_i32_1196 : BitVec 32 := 1#32
  let arg13 : BitVec 32 := Scf.iv v1732 c1_i32_1196 k3_t243
  let v1832 : Index := Scalar.indexCast arg13
  let c80 : Index := 80#32
  ![v1832.toNat, 80]
def k3_off973 (i : grid3.Coords) (v540 : BitVec 32) (v546 : BitVec 32) (k3_t243 : Fin (k3_t243_loop i v540 v546).trips) : Fin 2 → Nat :=
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let c1_i32_1196 : BitVec 32 := 1#32
  let arg13 : BitVec 32 := Scf.iv v1732 c1_i32_1196 k3_t243
  let v1836 : Index := Scalar.indexCast arg13
  let c96 : Index := 96#32
  ![v1836.toNat, 96]
def k3_off974 (i : grid3.Coords) (v540 : BitVec 32) (v546 : BitVec 32) (k3_t243 : Fin (k3_t243_loop i v540 v546).trips) : Fin 2 → Nat :=
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let c1_i32_1196 : BitVec 32 := 1#32
  let arg13 : BitVec 32 := Scf.iv v1732 c1_i32_1196 k3_t243
  let v1840 : Index := Scalar.indexCast arg13
  let c112 : Index := 112#32
  ![v1840.toNat, 112]
@[reducible] def k3_t244_loop (i : grid3.Coords) (v540 : BitVec 32) (v546 : BitVec 32) : Scf.Loop 32 :=
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let c256_i32_1143 : BitVec 32 := 256#32
  let c0_i32_1142 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c768_i32_1141 : BitVec 32 := 768#32
  let v1733 : BitVec 32 := Scalar.subi v550 c768_i32_1141
  let v1734 : BitVec 32 := Scalar.maxsi c0_i32_1142 v1733
  let v1735 : BitVec 32 := Scalar.minsi c256_i32_1143 v1734
  let v1805 : BitVec 32 := Scalar.subi v1735 v1732
  let c1_i32_1195 : BitVec 32 := 1#32
  let v1807 : BitVec 32 := Scalar.divsi v1805 c1_i32_1195
  let v1808 : BitVec 32 := Scalar.muli v1807 c1_i32_1195
  let v1809 : BitVec 32 := Scalar.addi v1732 v1808
  let v1806 : BitVec 32 := Scalar.addi v1732 v1805
  let c1_i32_1197 : BitVec 32 := 1#32
  ⟨v1809, v1806, c1_i32_1197⟩
def k3_off975 (i : grid3.Coords) (v540 : BitVec 32) (v546 : BitVec 32) (k3_t244 : Fin (k3_t244_loop i v540 v546).trips) : Fin 2 → Nat :=
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let c256_i32_1143 : BitVec 32 := 256#32
  let c0_i32_1142 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c768_i32_1141 : BitVec 32 := 768#32
  let v1733 : BitVec 32 := Scalar.subi v550 c768_i32_1141
  let v1734 : BitVec 32 := Scalar.maxsi c0_i32_1142 v1733
  let v1735 : BitVec 32 := Scalar.minsi c256_i32_1143 v1734
  let v1805 : BitVec 32 := Scalar.subi v1735 v1732
  let c1_i32_1195 : BitVec 32 := 1#32
  let v1807 : BitVec 32 := Scalar.divsi v1805 c1_i32_1195
  let v1808 : BitVec 32 := Scalar.muli v1807 c1_i32_1195
  let v1809 : BitVec 32 := Scalar.addi v1732 v1808
  let c1_i32_1197 : BitVec 32 := 1#32
  let arg13 : BitVec 32 := Scf.iv v1809 c1_i32_1197 k3_t244
  let v1828 : Index := Scalar.indexCast arg13
  let c64 : Index := 64#32
  ![v1828.toNat, 64]
def k3_off976 (i : grid3.Coords) (v540 : BitVec 32) (v546 : BitVec 32) (k3_t244 : Fin (k3_t244_loop i v540 v546).trips) : Fin 2 → Nat :=
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let c256_i32_1143 : BitVec 32 := 256#32
  let c0_i32_1142 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c768_i32_1141 : BitVec 32 := 768#32
  let v1733 : BitVec 32 := Scalar.subi v550 c768_i32_1141
  let v1734 : BitVec 32 := Scalar.maxsi c0_i32_1142 v1733
  let v1735 : BitVec 32 := Scalar.minsi c256_i32_1143 v1734
  let v1805 : BitVec 32 := Scalar.subi v1735 v1732
  let c1_i32_1195 : BitVec 32 := 1#32
  let v1807 : BitVec 32 := Scalar.divsi v1805 c1_i32_1195
  let v1808 : BitVec 32 := Scalar.muli v1807 c1_i32_1195
  let v1809 : BitVec 32 := Scalar.addi v1732 v1808
  let c1_i32_1197 : BitVec 32 := 1#32
  let arg13 : BitVec 32 := Scf.iv v1809 c1_i32_1197 k3_t244
  let v1832 : Index := Scalar.indexCast arg13
  let c80 : Index := 80#32
  ![v1832.toNat, 80]
def k3_off977 (i : grid3.Coords) (v540 : BitVec 32) (v546 : BitVec 32) (k3_t244 : Fin (k3_t244_loop i v540 v546).trips) : Fin 2 → Nat :=
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let c256_i32_1143 : BitVec 32 := 256#32
  let c0_i32_1142 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c768_i32_1141 : BitVec 32 := 768#32
  let v1733 : BitVec 32 := Scalar.subi v550 c768_i32_1141
  let v1734 : BitVec 32 := Scalar.maxsi c0_i32_1142 v1733
  let v1735 : BitVec 32 := Scalar.minsi c256_i32_1143 v1734
  let v1805 : BitVec 32 := Scalar.subi v1735 v1732
  let c1_i32_1195 : BitVec 32 := 1#32
  let v1807 : BitVec 32 := Scalar.divsi v1805 c1_i32_1195
  let v1808 : BitVec 32 := Scalar.muli v1807 c1_i32_1195
  let v1809 : BitVec 32 := Scalar.addi v1732 v1808
  let c1_i32_1197 : BitVec 32 := 1#32
  let arg13 : BitVec 32 := Scf.iv v1809 c1_i32_1197 k3_t244
  let v1836 : Index := Scalar.indexCast arg13
  let c96 : Index := 96#32
  ![v1836.toNat, 96]
def k3_off978 (i : grid3.Coords) (v540 : BitVec 32) (v546 : BitVec 32) (k3_t244 : Fin (k3_t244_loop i v540 v546).trips) : Fin 2 → Nat :=
  let c256_i32_1140 : BitVec 32 := 256#32
  let c0_i32_1139 : BitVec 32 := 0#32
  let c1024_i32_236 : BitVec 32 := 1024#32
  let c0_i32_235 : BitVec 32 := 0#32
  let c65536_i32_234 : BitVec 32 := 65536#32
  let v541 : BitVec 32 := Scalar.subi v540 c65536_i32_234
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v542 : BitVec 32 := Scalar.subi v541 v3
  let v543 : BitVec 32 := Scalar.maxsi c0_i32_235 v542
  let v544 : BitVec 32 := Scalar.minsi c1024_i32_236 v543
  let c768_i32_1138 : BitVec 32 := 768#32
  let v1730 : BitVec 32 := Scalar.subi v544 c768_i32_1138
  let v1731 : BitVec 32 := Scalar.maxsi c0_i32_1139 v1730
  let v1732 : BitVec 32 := Scalar.minsi c256_i32_1140 v1731
  let c256_i32_1143 : BitVec 32 := 256#32
  let c0_i32_1142 : BitVec 32 := 0#32
  let c1024_i32_239 : BitVec 32 := 1024#32
  let c0_i32_238 : BitVec 32 := 0#32
  let c65536_i32_237 : BitVec 32 := 65536#32
  let v547 : BitVec 32 := Scalar.subi v546 c65536_i32_237
  let v548 : BitVec 32 := Scalar.subi v547 v3
  let v549 : BitVec 32 := Scalar.maxsi c0_i32_238 v548
  let v550 : BitVec 32 := Scalar.minsi c1024_i32_239 v549
  let c768_i32_1141 : BitVec 32 := 768#32
  let v1733 : BitVec 32 := Scalar.subi v550 c768_i32_1141
  let v1734 : BitVec 32 := Scalar.maxsi c0_i32_1142 v1733
  let v1735 : BitVec 32 := Scalar.minsi c256_i32_1143 v1734
  let v1805 : BitVec 32 := Scalar.subi v1735 v1732
  let c1_i32_1195 : BitVec 32 := 1#32
  let v1807 : BitVec 32 := Scalar.divsi v1805 c1_i32_1195
  let v1808 : BitVec 32 := Scalar.muli v1807 c1_i32_1195
  let v1809 : BitVec 32 := Scalar.addi v1732 v1808
  let c1_i32_1197 : BitVec 32 := 1#32
  let arg13 : BitVec 32 := Scf.iv v1809 c1_i32_1197 k3_t244
  let v1840 : Index := Scalar.indexCast arg13
  let c112 : Index := 112#32
  ![v1840.toNat, 112]

def k3_chk26_0 (i : grid3.Coords) (v540 : BitVec 32) (v546 : BitVec 32) : Prop :=
  (∀ (k3_h26 : k3_cond26 i v540 v546 = 1#1), (k3_t51_loop i v540 v546).OK) ∧
  (∀ k3_t51 : Fin (k3_t51_loop i v540 v546).trips, ∀ (k3_h26 : k3_cond26 i v540 v546 = 1#1), ∀ a, (k3_off202 i v540 v546 k3_t51) a + S1x16.size a ≤ S256x128.size a) ∧
  (∀ k3_t51 : Fin (k3_t51_loop i v540 v546).trips, ∀ (k3_h26 : k3_cond26 i v540 v546 = 1#1), ∀ a, (k3_off203 i v540 v546 k3_t51) a + S1x16.size a ≤ S256x128.size a) ∧
  (∀ k3_t51 : Fin (k3_t51_loop i v540 v546).trips, ∀ (k3_h26 : k3_cond26 i v540 v546 = 1#1), ∀ a, (k3_off204 i v540 v546 k3_t51) a + S1x16.size a ≤ S256x128.size a) ∧
  (∀ k3_t51 : Fin (k3_t51_loop i v540 v546).trips, ∀ (k3_h26 : k3_cond26 i v540 v546 = 1#1), ∀ a, (k3_off205 i v540 v546 k3_t51) a + S1x16.size a ≤ S256x128.size a) ∧
  (∀ (k3_h26 : k3_cond26 i v540 v546 = 1#1), (k3_t52_loop i v540 v546).OK) ∧
  (∀ k3_t52 : Fin (k3_t52_loop i v540 v546).trips, ∀ (k3_h26 : k3_cond26 i v540 v546 = 1#1), ∀ a, (k3_off206 i v540 v546 k3_t52) a + S1x16.size a ≤ S256x128.size a) ∧
  (∀ k3_t52 : Fin (k3_t52_loop i v540 v546).trips, ∀ (k3_h26 : k3_cond26 i v540 v546 = 1#1), ∀ a, (k3_off207 i v540 v546 k3_t52) a + S1x16.size a ≤ S256x128.size a) ∧
  (∀ k3_t52 : Fin (k3_t52_loop i v540 v546).trips, ∀ (k3_h26 : k3_cond26 i v540 v546 = 1#1), ∀ a, (k3_off208 i v540 v546 k3_t52) a + S1x16.size a ≤ S256x128.size a) ∧
  (∀ k3_t52 : Fin (k3_t52_loop i v540 v546).trips, ∀ (k3_h26 : k3_cond26 i v540 v546 = 1#1), ∀ a, (k3_off209 i v540 v546 k3_t52) a + S1x16.size a ≤ S256x128.size a) ∧
  (∀ (k3_h58 : k3_cond58 i v540 v546 = 1#1), (k3_t115_loop i v540 v546).OK) ∧
  (∀ k3_t115 : Fin (k3_t115_loop i v540 v546).trips, ∀ (k3_h58 : k3_cond58 i v540 v546 = 1#1), ∀ a, (k3_off459 i v540 v546 k3_t115) a + S1x16.size a ≤ S256x128.size a) ∧
  (∀ k3_t115 : Fin (k3_t115_loop i v540 v546).trips, ∀ (k3_h58 : k3_cond58 i v540 v546 = 1#1), ∀ a, (k3_off460 i v540 v546 k3_t115) a + S1x16.size a ≤ S256x128.size a) ∧
  (∀ k3_t115 : Fin (k3_t115_loop i v540 v546).trips, ∀ (k3_h58 : k3_cond58 i v540 v546 = 1#1), ∀ a, (k3_off461 i v540 v546 k3_t115) a + S1x16.size a ≤ S256x128.size a) ∧
  (∀ k3_t115 : Fin (k3_t115_loop i v540 v546).trips, ∀ (k3_h58 : k3_cond58 i v540 v546 = 1#1), ∀ a, (k3_off462 i v540 v546 k3_t115) a + S1x16.size a ≤ S256x128.size a) ∧
  (∀ (k3_h58 : k3_cond58 i v540 v546 = 1#1), (k3_t116_loop i v540 v546).OK) ∧
  (∀ k3_t116 : Fin (k3_t116_loop i v540 v546).trips, ∀ (k3_h58 : k3_cond58 i v540 v546 = 1#1), ∀ a, (k3_off463 i v540 v546 k3_t116) a + S1x16.size a ≤ S256x128.size a) ∧
  (∀ k3_t116 : Fin (k3_t116_loop i v540 v546).trips, ∀ (k3_h58 : k3_cond58 i v540 v546 = 1#1), ∀ a, (k3_off464 i v540 v546 k3_t116) a + S1x16.size a ≤ S256x128.size a) ∧
  (∀ k3_t116 : Fin (k3_t116_loop i v540 v546).trips, ∀ (k3_h58 : k3_cond58 i v540 v546 = 1#1), ∀ a, (k3_off465 i v540 v546 k3_t116) a + S1x16.size a ≤ S256x128.size a) ∧
  (∀ k3_t116 : Fin (k3_t116_loop i v540 v546).trips, ∀ (k3_h58 : k3_cond58 i v540 v546 = 1#1), ∀ a, (k3_off466 i v540 v546 k3_t116) a + S1x16.size a ≤ S256x128.size a) ∧
  (∀ (k3_h90 : k3_cond90 i v540 v546 = 1#1), (k3_t179_loop i v540 v546).OK) ∧
  (∀ k3_t179 : Fin (k3_t179_loop i v540 v546).trips, ∀ (k3_h90 : k3_cond90 i v540 v546 = 1#1), ∀ a, (k3_off715 i v540 v546 k3_t179) a + S1x16.size a ≤ S256x128.size a) ∧
  (∀ k3_t179 : Fin (k3_t179_loop i v540 v546).trips, ∀ (k3_h90 : k3_cond90 i v540 v546 = 1#1), ∀ a, (k3_off716 i v540 v546 k3_t179) a + S1x16.size a ≤ S256x128.size a) ∧
  (∀ k3_t179 : Fin (k3_t179_loop i v540 v546).trips, ∀ (k3_h90 : k3_cond90 i v540 v546 = 1#1), ∀ a, (k3_off717 i v540 v546 k3_t179) a + S1x16.size a ≤ S256x128.size a) ∧
  (∀ k3_t179 : Fin (k3_t179_loop i v540 v546).trips, ∀ (k3_h90 : k3_cond90 i v540 v546 = 1#1), ∀ a, (k3_off718 i v540 v546 k3_t179) a + S1x16.size a ≤ S256x128.size a) ∧
  (∀ (k3_h90 : k3_cond90 i v540 v546 = 1#1), (k3_t180_loop i v540 v546).OK) ∧
  (∀ k3_t180 : Fin (k3_t180_loop i v540 v546).trips, ∀ (k3_h90 : k3_cond90 i v540 v546 = 1#1), ∀ a, (k3_off719 i v540 v546 k3_t180) a + S1x16.size a ≤ S256x128.size a) ∧
  (∀ k3_t180 : Fin (k3_t180_loop i v540 v546).trips, ∀ (k3_h90 : k3_cond90 i v540 v546 = 1#1), ∀ a, (k3_off720 i v540 v546 k3_t180) a + S1x16.size a ≤ S256x128.size a) ∧
  (∀ k3_t180 : Fin (k3_t180_loop i v540 v546).trips, ∀ (k3_h90 : k3_cond90 i v540 v546 = 1#1), ∀ a, (k3_off721 i v540 v546 k3_t180) a + S1x16.size a ≤ S256x128.size a) ∧
  (∀ k3_t180 : Fin (k3_t180_loop i v540 v546).trips, ∀ (k3_h90 : k3_cond90 i v540 v546 = 1#1), ∀ a, (k3_off722 i v540 v546 k3_t180) a + S1x16.size a ≤ S256x128.size a) ∧
  (∀ (k3_h122 : k3_cond122 i v540 v546 = 1#1), (k3_t243_loop i v540 v546).OK) ∧
  (∀ k3_t243 : Fin (k3_t243_loop i v540 v546).trips, ∀ (k3_h122 : k3_cond122 i v540 v546 = 1#1), ∀ a, (k3_off971 i v540 v546 k3_t243) a + S1x16.size a ≤ S256x128.size a)
def k3_chk26_1 (i : grid3.Coords) (v540 : BitVec 32) (v546 : BitVec 32) : Prop :=
  (∀ k3_t243 : Fin (k3_t243_loop i v540 v546).trips, ∀ (k3_h122 : k3_cond122 i v540 v546 = 1#1), ∀ a, (k3_off972 i v540 v546 k3_t243) a + S1x16.size a ≤ S256x128.size a) ∧
  (∀ k3_t243 : Fin (k3_t243_loop i v540 v546).trips, ∀ (k3_h122 : k3_cond122 i v540 v546 = 1#1), ∀ a, (k3_off973 i v540 v546 k3_t243) a + S1x16.size a ≤ S256x128.size a) ∧
  (∀ k3_t243 : Fin (k3_t243_loop i v540 v546).trips, ∀ (k3_h122 : k3_cond122 i v540 v546 = 1#1), ∀ a, (k3_off974 i v540 v546 k3_t243) a + S1x16.size a ≤ S256x128.size a) ∧
  (∀ (k3_h122 : k3_cond122 i v540 v546 = 1#1), (k3_t244_loop i v540 v546).OK) ∧
  (∀ k3_t244 : Fin (k3_t244_loop i v540 v546).trips, ∀ (k3_h122 : k3_cond122 i v540 v546 = 1#1), ∀ a, (k3_off975 i v540 v546 k3_t244) a + S1x16.size a ≤ S256x128.size a) ∧
  (∀ k3_t244 : Fin (k3_t244_loop i v540 v546).trips, ∀ (k3_h122 : k3_cond122 i v540 v546 = 1#1), ∀ a, (k3_off976 i v540 v546 k3_t244) a + S1x16.size a ≤ S256x128.size a) ∧
  (∀ k3_t244 : Fin (k3_t244_loop i v540 v546).trips, ∀ (k3_h122 : k3_cond122 i v540 v546 = 1#1), ∀ a, (k3_off977 i v540 v546 k3_t244) a + S1x16.size a ≤ S256x128.size a) ∧
  (∀ k3_t244 : Fin (k3_t244_loop i v540 v546).trips, ∀ (k3_h122 : k3_cond122 i v540 v546 = 1#1), ∀ a, (k3_off978 i v540 v546 k3_t244) a + S1x16.size a ≤ S256x128.size a)
def k3_chk26 (i : grid3.Coords) (v540 : BitVec 32) (v546 : BitVec 32) : Prop :=
  k3_chk26_0 i v540 v546 ∧
  k3_chk26_1 i v540 v546
theorem k3_t51_ok : ∀ (i : grid3.Coords) (v540 : BitVec 32) (v546 : BitVec 32) (k3_hw26 : k3_chk26 i v540 v546), ∀ (k3_h26 : k3_cond26 i v540 v546 = 1#1), (k3_t51_loop i v540 v546).OK := fun i v540 v546 k3_hw26 k3_h26 => k3_hw26.1.1 k3_h26
theorem k3_off202_inb : ∀ (i : grid3.Coords) (v540 : BitVec 32) (v546 : BitVec 32) (k3_hw26 : k3_chk26 i v540 v546) (k3_t51 : Fin (k3_t51_loop i v540 v546).trips), ∀ (k3_h26 : k3_cond26 i v540 v546 = 1#1), ∀ a, (k3_off202 i v540 v546 k3_t51) a + S1x16.size a ≤ S256x128.size a := fun i v540 v546 k3_hw26 k3_t51 k3_h26 => k3_hw26.1.2.1 k3_t51 k3_h26
theorem k3_off203_inb : ∀ (i : grid3.Coords) (v540 : BitVec 32) (v546 : BitVec 32) (k3_hw26 : k3_chk26 i v540 v546) (k3_t51 : Fin (k3_t51_loop i v540 v546).trips), ∀ (k3_h26 : k3_cond26 i v540 v546 = 1#1), ∀ a, (k3_off203 i v540 v546 k3_t51) a + S1x16.size a ≤ S256x128.size a := fun i v540 v546 k3_hw26 k3_t51 k3_h26 => k3_hw26.1.2.2.1 k3_t51 k3_h26
theorem k3_off204_inb : ∀ (i : grid3.Coords) (v540 : BitVec 32) (v546 : BitVec 32) (k3_hw26 : k3_chk26 i v540 v546) (k3_t51 : Fin (k3_t51_loop i v540 v546).trips), ∀ (k3_h26 : k3_cond26 i v540 v546 = 1#1), ∀ a, (k3_off204 i v540 v546 k3_t51) a + S1x16.size a ≤ S256x128.size a := fun i v540 v546 k3_hw26 k3_t51 k3_h26 => k3_hw26.1.2.2.2.1 k3_t51 k3_h26
theorem k3_off205_inb : ∀ (i : grid3.Coords) (v540 : BitVec 32) (v546 : BitVec 32) (k3_hw26 : k3_chk26 i v540 v546) (k3_t51 : Fin (k3_t51_loop i v540 v546).trips), ∀ (k3_h26 : k3_cond26 i v540 v546 = 1#1), ∀ a, (k3_off205 i v540 v546 k3_t51) a + S1x16.size a ≤ S256x128.size a := fun i v540 v546 k3_hw26 k3_t51 k3_h26 => k3_hw26.1.2.2.2.2.1 k3_t51 k3_h26
theorem k3_t52_ok : ∀ (i : grid3.Coords) (v540 : BitVec 32) (v546 : BitVec 32) (k3_hw26 : k3_chk26 i v540 v546), ∀ (k3_h26 : k3_cond26 i v540 v546 = 1#1), (k3_t52_loop i v540 v546).OK := fun i v540 v546 k3_hw26 k3_h26 => k3_hw26.1.2.2.2.2.2.1 k3_h26
theorem k3_off206_inb : ∀ (i : grid3.Coords) (v540 : BitVec 32) (v546 : BitVec 32) (k3_hw26 : k3_chk26 i v540 v546) (k3_t52 : Fin (k3_t52_loop i v540 v546).trips), ∀ (k3_h26 : k3_cond26 i v540 v546 = 1#1), ∀ a, (k3_off206 i v540 v546 k3_t52) a + S1x16.size a ≤ S256x128.size a := fun i v540 v546 k3_hw26 k3_t52 k3_h26 => k3_hw26.1.2.2.2.2.2.2.1 k3_t52 k3_h26
theorem k3_off207_inb : ∀ (i : grid3.Coords) (v540 : BitVec 32) (v546 : BitVec 32) (k3_hw26 : k3_chk26 i v540 v546) (k3_t52 : Fin (k3_t52_loop i v540 v546).trips), ∀ (k3_h26 : k3_cond26 i v540 v546 = 1#1), ∀ a, (k3_off207 i v540 v546 k3_t52) a + S1x16.size a ≤ S256x128.size a := fun i v540 v546 k3_hw26 k3_t52 k3_h26 => k3_hw26.1.2.2.2.2.2.2.2.1 k3_t52 k3_h26
theorem k3_off208_inb : ∀ (i : grid3.Coords) (v540 : BitVec 32) (v546 : BitVec 32) (k3_hw26 : k3_chk26 i v540 v546) (k3_t52 : Fin (k3_t52_loop i v540 v546).trips), ∀ (k3_h26 : k3_cond26 i v540 v546 = 1#1), ∀ a, (k3_off208 i v540 v546 k3_t52) a + S1x16.size a ≤ S256x128.size a := fun i v540 v546 k3_hw26 k3_t52 k3_h26 => k3_hw26.1.2.2.2.2.2.2.2.2.1 k3_t52 k3_h26
theorem k3_off209_inb : ∀ (i : grid3.Coords) (v540 : BitVec 32) (v546 : BitVec 32) (k3_hw26 : k3_chk26 i v540 v546) (k3_t52 : Fin (k3_t52_loop i v540 v546).trips), ∀ (k3_h26 : k3_cond26 i v540 v546 = 1#1), ∀ a, (k3_off209 i v540 v546 k3_t52) a + S1x16.size a ≤ S256x128.size a := fun i v540 v546 k3_hw26 k3_t52 k3_h26 => k3_hw26.1.2.2.2.2.2.2.2.2.2.1 k3_t52 k3_h26
theorem k3_t115_ok : ∀ (i : grid3.Coords) (v540 : BitVec 32) (v546 : BitVec 32) (k3_hw26 : k3_chk26 i v540 v546), ∀ (k3_h58 : k3_cond58 i v540 v546 = 1#1), (k3_t115_loop i v540 v546).OK := fun i v540 v546 k3_hw26 k3_h58 => k3_hw26.1.2.2.2.2.2.2.2.2.2.2.1 k3_h58
theorem k3_off459_inb : ∀ (i : grid3.Coords) (v540 : BitVec 32) (v546 : BitVec 32) (k3_hw26 : k3_chk26 i v540 v546) (k3_t115 : Fin (k3_t115_loop i v540 v546).trips), ∀ (k3_h58 : k3_cond58 i v540 v546 = 1#1), ∀ a, (k3_off459 i v540 v546 k3_t115) a + S1x16.size a ≤ S256x128.size a := fun i v540 v546 k3_hw26 k3_t115 k3_h58 => k3_hw26.1.2.2.2.2.2.2.2.2.2.2.2.1 k3_t115 k3_h58
theorem k3_off460_inb : ∀ (i : grid3.Coords) (v540 : BitVec 32) (v546 : BitVec 32) (k3_hw26 : k3_chk26 i v540 v546) (k3_t115 : Fin (k3_t115_loop i v540 v546).trips), ∀ (k3_h58 : k3_cond58 i v540 v546 = 1#1), ∀ a, (k3_off460 i v540 v546 k3_t115) a + S1x16.size a ≤ S256x128.size a := fun i v540 v546 k3_hw26 k3_t115 k3_h58 => k3_hw26.1.2.2.2.2.2.2.2.2.2.2.2.2.1 k3_t115 k3_h58
theorem k3_off461_inb : ∀ (i : grid3.Coords) (v540 : BitVec 32) (v546 : BitVec 32) (k3_hw26 : k3_chk26 i v540 v546) (k3_t115 : Fin (k3_t115_loop i v540 v546).trips), ∀ (k3_h58 : k3_cond58 i v540 v546 = 1#1), ∀ a, (k3_off461 i v540 v546 k3_t115) a + S1x16.size a ≤ S256x128.size a := fun i v540 v546 k3_hw26 k3_t115 k3_h58 => k3_hw26.1.2.2.2.2.2.2.2.2.2.2.2.2.2.1 k3_t115 k3_h58
theorem k3_off462_inb : ∀ (i : grid3.Coords) (v540 : BitVec 32) (v546 : BitVec 32) (k3_hw26 : k3_chk26 i v540 v546) (k3_t115 : Fin (k3_t115_loop i v540 v546).trips), ∀ (k3_h58 : k3_cond58 i v540 v546 = 1#1), ∀ a, (k3_off462 i v540 v546 k3_t115) a + S1x16.size a ≤ S256x128.size a := fun i v540 v546 k3_hw26 k3_t115 k3_h58 => k3_hw26.1.2.2.2.2.2.2.2.2.2.2.2.2.2.2.1 k3_t115 k3_h58
theorem k3_t116_ok : ∀ (i : grid3.Coords) (v540 : BitVec 32) (v546 : BitVec 32) (k3_hw26 : k3_chk26 i v540 v546), ∀ (k3_h58 : k3_cond58 i v540 v546 = 1#1), (k3_t116_loop i v540 v546).OK := fun i v540 v546 k3_hw26 k3_h58 => k3_hw26.1.2.2.2.2.2.2.2.2.2.2.2.2.2.2.2.1 k3_h58
theorem k3_off463_inb : ∀ (i : grid3.Coords) (v540 : BitVec 32) (v546 : BitVec 32) (k3_hw26 : k3_chk26 i v540 v546) (k3_t116 : Fin (k3_t116_loop i v540 v546).trips), ∀ (k3_h58 : k3_cond58 i v540 v546 = 1#1), ∀ a, (k3_off463 i v540 v546 k3_t116) a + S1x16.size a ≤ S256x128.size a := fun i v540 v546 k3_hw26 k3_t116 k3_h58 => k3_hw26.1.2.2.2.2.2.2.2.2.2.2.2.2.2.2.2.2.1 k3_t116 k3_h58
theorem k3_off464_inb : ∀ (i : grid3.Coords) (v540 : BitVec 32) (v546 : BitVec 32) (k3_hw26 : k3_chk26 i v540 v546) (k3_t116 : Fin (k3_t116_loop i v540 v546).trips), ∀ (k3_h58 : k3_cond58 i v540 v546 = 1#1), ∀ a, (k3_off464 i v540 v546 k3_t116) a + S1x16.size a ≤ S256x128.size a := fun i v540 v546 k3_hw26 k3_t116 k3_h58 => k3_hw26.1.2.2.2.2.2.2.2.2.2.2.2.2.2.2.2.2.2.1 k3_t116 k3_h58
theorem k3_off465_inb : ∀ (i : grid3.Coords) (v540 : BitVec 32) (v546 : BitVec 32) (k3_hw26 : k3_chk26 i v540 v546) (k3_t116 : Fin (k3_t116_loop i v540 v546).trips), ∀ (k3_h58 : k3_cond58 i v540 v546 = 1#1), ∀ a, (k3_off465 i v540 v546 k3_t116) a + S1x16.size a ≤ S256x128.size a := fun i v540 v546 k3_hw26 k3_t116 k3_h58 => k3_hw26.1.2.2.2.2.2.2.2.2.2.2.2.2.2.2.2.2.2.2.1 k3_t116 k3_h58
theorem k3_off466_inb : ∀ (i : grid3.Coords) (v540 : BitVec 32) (v546 : BitVec 32) (k3_hw26 : k3_chk26 i v540 v546) (k3_t116 : Fin (k3_t116_loop i v540 v546).trips), ∀ (k3_h58 : k3_cond58 i v540 v546 = 1#1), ∀ a, (k3_off466 i v540 v546 k3_t116) a + S1x16.size a ≤ S256x128.size a := fun i v540 v546 k3_hw26 k3_t116 k3_h58 => k3_hw26.1.2.2.2.2.2.2.2.2.2.2.2.2.2.2.2.2.2.2.2.1 k3_t116 k3_h58
theorem k3_t179_ok : ∀ (i : grid3.Coords) (v540 : BitVec 32) (v546 : BitVec 32) (k3_hw26 : k3_chk26 i v540 v546), ∀ (k3_h90 : k3_cond90 i v540 v546 = 1#1), (k3_t179_loop i v540 v546).OK := fun i v540 v546 k3_hw26 k3_h90 => k3_hw26.1.2.2.2.2.2.2.2.2.2.2.2.2.2.2.2.2.2.2.2.2.1 k3_h90
theorem k3_off715_inb : ∀ (i : grid3.Coords) (v540 : BitVec 32) (v546 : BitVec 32) (k3_hw26 : k3_chk26 i v540 v546) (k3_t179 : Fin (k3_t179_loop i v540 v546).trips), ∀ (k3_h90 : k3_cond90 i v540 v546 = 1#1), ∀ a, (k3_off715 i v540 v546 k3_t179) a + S1x16.size a ≤ S256x128.size a := fun i v540 v546 k3_hw26 k3_t179 k3_h90 => k3_hw26.1.2.2.2.2.2.2.2.2.2.2.2.2.2.2.2.2.2.2.2.2.2.1 k3_t179 k3_h90
theorem k3_off716_inb : ∀ (i : grid3.Coords) (v540 : BitVec 32) (v546 : BitVec 32) (k3_hw26 : k3_chk26 i v540 v546) (k3_t179 : Fin (k3_t179_loop i v540 v546).trips), ∀ (k3_h90 : k3_cond90 i v540 v546 = 1#1), ∀ a, (k3_off716 i v540 v546 k3_t179) a + S1x16.size a ≤ S256x128.size a := fun i v540 v546 k3_hw26 k3_t179 k3_h90 => k3_hw26.1.2.2.2.2.2.2.2.2.2.2.2.2.2.2.2.2.2.2.2.2.2.2.1 k3_t179 k3_h90
theorem k3_off717_inb : ∀ (i : grid3.Coords) (v540 : BitVec 32) (v546 : BitVec 32) (k3_hw26 : k3_chk26 i v540 v546) (k3_t179 : Fin (k3_t179_loop i v540 v546).trips), ∀ (k3_h90 : k3_cond90 i v540 v546 = 1#1), ∀ a, (k3_off717 i v540 v546 k3_t179) a + S1x16.size a ≤ S256x128.size a := fun i v540 v546 k3_hw26 k3_t179 k3_h90 => k3_hw26.1.2.2.2.2.2.2.2.2.2.2.2.2.2.2.2.2.2.2.2.2.2.2.2.1 k3_t179 k3_h90
theorem k3_off718_inb : ∀ (i : grid3.Coords) (v540 : BitVec 32) (v546 : BitVec 32) (k3_hw26 : k3_chk26 i v540 v546) (k3_t179 : Fin (k3_t179_loop i v540 v546).trips), ∀ (k3_h90 : k3_cond90 i v540 v546 = 1#1), ∀ a, (k3_off718 i v540 v546 k3_t179) a + S1x16.size a ≤ S256x128.size a := fun i v540 v546 k3_hw26 k3_t179 k3_h90 => k3_hw26.1.2.2.2.2.2.2.2.2.2.2.2.2.2.2.2.2.2.2.2.2.2.2.2.2.1 k3_t179 k3_h90
theorem k3_t180_ok : ∀ (i : grid3.Coords) (v540 : BitVec 32) (v546 : BitVec 32) (k3_hw26 : k3_chk26 i v540 v546), ∀ (k3_h90 : k3_cond90 i v540 v546 = 1#1), (k3_t180_loop i v540 v546).OK := fun i v540 v546 k3_hw26 k3_h90 => k3_hw26.1.2.2.2.2.2.2.2.2.2.2.2.2.2.2.2.2.2.2.2.2.2.2.2.2.2.1 k3_h90
theorem k3_off719_inb : ∀ (i : grid3.Coords) (v540 : BitVec 32) (v546 : BitVec 32) (k3_hw26 : k3_chk26 i v540 v546) (k3_t180 : Fin (k3_t180_loop i v540 v546).trips), ∀ (k3_h90 : k3_cond90 i v540 v546 = 1#1), ∀ a, (k3_off719 i v540 v546 k3_t180) a + S1x16.size a ≤ S256x128.size a := fun i v540 v546 k3_hw26 k3_t180 k3_h90 => k3_hw26.1.2.2.2.2.2.2.2.2.2.2.2.2.2.2.2.2.2.2.2.2.2.2.2.2.2.2.1 k3_t180 k3_h90
theorem k3_off720_inb : ∀ (i : grid3.Coords) (v540 : BitVec 32) (v546 : BitVec 32) (k3_hw26 : k3_chk26 i v540 v546) (k3_t180 : Fin (k3_t180_loop i v540 v546).trips), ∀ (k3_h90 : k3_cond90 i v540 v546 = 1#1), ∀ a, (k3_off720 i v540 v546 k3_t180) a + S1x16.size a ≤ S256x128.size a := fun i v540 v546 k3_hw26 k3_t180 k3_h90 => k3_hw26.1.2.2.2.2.2.2.2.2.2.2.2.2.2.2.2.2.2.2.2.2.2.2.2.2.2.2.2.1 k3_t180 k3_h90
theorem k3_off721_inb : ∀ (i : grid3.Coords) (v540 : BitVec 32) (v546 : BitVec 32) (k3_hw26 : k3_chk26 i v540 v546) (k3_t180 : Fin (k3_t180_loop i v540 v546).trips), ∀ (k3_h90 : k3_cond90 i v540 v546 = 1#1), ∀ a, (k3_off721 i v540 v546 k3_t180) a + S1x16.size a ≤ S256x128.size a := fun i v540 v546 k3_hw26 k3_t180 k3_h90 => k3_hw26.1.2.2.2.2.2.2.2.2.2.2.2.2.2.2.2.2.2.2.2.2.2.2.2.2.2.2.2.2.1 k3_t180 k3_h90
theorem k3_off722_inb : ∀ (i : grid3.Coords) (v540 : BitVec 32) (v546 : BitVec 32) (k3_hw26 : k3_chk26 i v540 v546) (k3_t180 : Fin (k3_t180_loop i v540 v546).trips), ∀ (k3_h90 : k3_cond90 i v540 v546 = 1#1), ∀ a, (k3_off722 i v540 v546 k3_t180) a + S1x16.size a ≤ S256x128.size a := fun i v540 v546 k3_hw26 k3_t180 k3_h90 => k3_hw26.1.2.2.2.2.2.2.2.2.2.2.2.2.2.2.2.2.2.2.2.2.2.2.2.2.2.2.2.2.2.1 k3_t180 k3_h90
theorem k3_t243_ok : ∀ (i : grid3.Coords) (v540 : BitVec 32) (v546 : BitVec 32) (k3_hw26 : k3_chk26 i v540 v546), ∀ (k3_h122 : k3_cond122 i v540 v546 = 1#1), (k3_t243_loop i v540 v546).OK := fun i v540 v546 k3_hw26 k3_h122 => k3_hw26.1.2.2.2.2.2.2.2.2.2.2.2.2.2.2.2.2.2.2.2.2.2.2.2.2.2.2.2.2.2.2.1 k3_h122
theorem k3_off971_inb : ∀ (i : grid3.Coords) (v540 : BitVec 32) (v546 : BitVec 32) (k3_hw26 : k3_chk26 i v540 v546) (k3_t243 : Fin (k3_t243_loop i v540 v546).trips), ∀ (k3_h122 : k3_cond122 i v540 v546 = 1#1), ∀ a, (k3_off971 i v540 v546 k3_t243) a + S1x16.size a ≤ S256x128.size a := fun i v540 v546 k3_hw26 k3_t243 k3_h122 => k3_hw26.1.2.2.2.2.2.2.2.2.2.2.2.2.2.2.2.2.2.2.2.2.2.2.2.2.2.2.2.2.2.2.2 k3_t243 k3_h122
theorem k3_off972_inb : ∀ (i : grid3.Coords) (v540 : BitVec 32) (v546 : BitVec 32) (k3_hw26 : k3_chk26 i v540 v546) (k3_t243 : Fin (k3_t243_loop i v540 v546).trips), ∀ (k3_h122 : k3_cond122 i v540 v546 = 1#1), ∀ a, (k3_off972 i v540 v546 k3_t243) a + S1x16.size a ≤ S256x128.size a := fun i v540 v546 k3_hw26 k3_t243 k3_h122 => k3_hw26.2.1 k3_t243 k3_h122
theorem k3_off973_inb : ∀ (i : grid3.Coords) (v540 : BitVec 32) (v546 : BitVec 32) (k3_hw26 : k3_chk26 i v540 v546) (k3_t243 : Fin (k3_t243_loop i v540 v546).trips), ∀ (k3_h122 : k3_cond122 i v540 v546 = 1#1), ∀ a, (k3_off973 i v540 v546 k3_t243) a + S1x16.size a ≤ S256x128.size a := fun i v540 v546 k3_hw26 k3_t243 k3_h122 => k3_hw26.2.2.1 k3_t243 k3_h122
theorem k3_off974_inb : ∀ (i : grid3.Coords) (v540 : BitVec 32) (v546 : BitVec 32) (k3_hw26 : k3_chk26 i v540 v546) (k3_t243 : Fin (k3_t243_loop i v540 v546).trips), ∀ (k3_h122 : k3_cond122 i v540 v546 = 1#1), ∀ a, (k3_off974 i v540 v546 k3_t243) a + S1x16.size a ≤ S256x128.size a := fun i v540 v546 k3_hw26 k3_t243 k3_h122 => k3_hw26.2.2.2.1 k3_t243 k3_h122
theorem k3_t244_ok : ∀ (i : grid3.Coords) (v540 : BitVec 32) (v546 : BitVec 32) (k3_hw26 : k3_chk26 i v540 v546), ∀ (k3_h122 : k3_cond122 i v540 v546 = 1#1), (k3_t244_loop i v540 v546).OK := fun i v540 v546 k3_hw26 k3_h122 => k3_hw26.2.2.2.2.1 k3_h122
theorem k3_off975_inb : ∀ (i : grid3.Coords) (v540 : BitVec 32) (v546 : BitVec 32) (k3_hw26 : k3_chk26 i v540 v546) (k3_t244 : Fin (k3_t244_loop i v540 v546).trips), ∀ (k3_h122 : k3_cond122 i v540 v546 = 1#1), ∀ a, (k3_off975 i v540 v546 k3_t244) a + S1x16.size a ≤ S256x128.size a := fun i v540 v546 k3_hw26 k3_t244 k3_h122 => k3_hw26.2.2.2.2.2.1 k3_t244 k3_h122
theorem k3_off976_inb : ∀ (i : grid3.Coords) (v540 : BitVec 32) (v546 : BitVec 32) (k3_hw26 : k3_chk26 i v540 v546) (k3_t244 : Fin (k3_t244_loop i v540 v546).trips), ∀ (k3_h122 : k3_cond122 i v540 v546 = 1#1), ∀ a, (k3_off976 i v540 v546 k3_t244) a + S1x16.size a ≤ S256x128.size a := fun i v540 v546 k3_hw26 k3_t244 k3_h122 => k3_hw26.2.2.2.2.2.2.1 k3_t244 k3_h122
theorem k3_off977_inb : ∀ (i : grid3.Coords) (v540 : BitVec 32) (v546 : BitVec 32) (k3_hw26 : k3_chk26 i v540 v546) (k3_t244 : Fin (k3_t244_loop i v540 v546).trips), ∀ (k3_h122 : k3_cond122 i v540 v546 = 1#1), ∀ a, (k3_off977 i v540 v546 k3_t244) a + S1x16.size a ≤ S256x128.size a := fun i v540 v546 k3_hw26 k3_t244 k3_h122 => k3_hw26.2.2.2.2.2.2.2.1 k3_t244 k3_h122
theorem k3_off978_inb : ∀ (i : grid3.Coords) (v540 : BitVec 32) (v546 : BitVec 32) (k3_hw26 : k3_chk26 i v540 v546) (k3_t244 : Fin (k3_t244_loop i v540 v546).trips), ∀ (k3_h122 : k3_cond122 i v540 v546 = 1#1), ∀ a, (k3_off978 i v540 v546 k3_t244) a + S1x16.size a ≤ S256x128.size a := fun i v540 v546 k3_hw26 k3_t244 k3_h122 => k3_hw26.2.2.2.2.2.2.2.2 k3_t244 k3_h122

@[reducible] def k3_t245_loop (i : grid3.Coords) (v552 : BitVec 32) (v557 : BitVec 32) : Scf.Loop 32 :=
  let c256_i32_1147 : BitVec 32 := 256#32
  let c0_i32_1146 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let c256_i32_1150 : BitVec 32 := 256#32
  let c0_i32_1149 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c768_i32_1148 : BitVec 32 := 768#32
  let v1742 : BitVec 32 := Scalar.subi v560 c768_i32_1148
  let v1743 : BitVec 32 := Scalar.maxsi c0_i32_1149 v1742
  let v1744 : BitVec 32 := Scalar.minsi c256_i32_1150 v1743
  let v1805 : BitVec 32 := Scalar.subi v1744 v1741
  let c1_i32_1195 : BitVec 32 := 1#32
  let v1807 : BitVec 32 := Scalar.divsi v1805 c1_i32_1195
  let v1808 : BitVec 32 := Scalar.muli v1807 c1_i32_1195
  let v1809 : BitVec 32 := Scalar.addi v1741 v1808
  let c1_i32_1196 : BitVec 32 := 1#32
  ⟨v1741, v1809, c1_i32_1196⟩
def k3_cond123 (i : grid3.Coords) (v552 : BitVec 32) (v557 : BitVec 32) : BitVec 1 :=
  let c256_i32_1150 : BitVec 32 := 256#32
  let c0_i32_1149 : BitVec 32 := 0#32
  let c1024_i32_243 : BitVec 32 := 1024#32
  let c0_i32_242 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v558 : BitVec 32 := Scalar.subi v557 v3
  let v559 : BitVec 32 := Scalar.maxsi c0_i32_242 v558
  let v560 : BitVec 32 := Scalar.minsi c1024_i32_243 v559
  let c768_i32_1148 : BitVec 32 := 768#32
  let v1742 : BitVec 32 := Scalar.subi v560 c768_i32_1148
  let v1743 : BitVec 32 := Scalar.maxsi c0_i32_1149 v1742
  let v1744 : BitVec 32 := Scalar.minsi c256_i32_1150 v1743
  let c256_i32_1147 : BitVec 32 := 256#32
  let c0_i32_1146 : BitVec 32 := 0#32
  let c1024_i32_241 : BitVec 32 := 1024#32
  let c0_i32_240 : BitVec 32 := 0#32
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let v1745 : BitVec 1 := Scalar.cmpi .sgt v1744 v1741
  let v1746 : BitVec 32 := Scalar.extui v1745
  let c0_i32_1151 : BitVec 32 := 0#32
  let v1747 : BitVec 1 := Scalar.cmpi .ne v1746 c0_i32_1151
  v1747

def k3_off979 (i : grid3.Coords) (v552 : BitVec 32) (v557 : BitVec 32) (k3_t245 : Fin (k3_t245_loop i v552 v557).trips) : Fin 2 → Nat :=
  let c256_i32_1147 : BitVec 32 := 256#32
  let c0_i32_1146 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let c1_i32_1196 : BitVec 32 := 1#32
  let arg13 : BitVec 32 := Scf.iv v1741 c1_i32_1196 k3_t245
  let v1828 : Index := Scalar.indexCast arg13
  let c0_1206 : Index := 0#32
  ![v1828.toNat, 0]
def k3_off980 (i : grid3.Coords) (v552 : BitVec 32) (v557 : BitVec 32) (k3_t245 : Fin (k3_t245_loop i v552 v557).trips) : Fin 2 → Nat :=
  let c256_i32_1147 : BitVec 32 := 256#32
  let c0_i32_1146 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let c1_i32_1196 : BitVec 32 := 1#32
  let arg13 : BitVec 32 := Scf.iv v1741 c1_i32_1196 k3_t245
  let v1832 : Index := Scalar.indexCast arg13
  let c16_1207 : Index := 16#32
  ![v1832.toNat, 16]
def k3_off981 (i : grid3.Coords) (v552 : BitVec 32) (v557 : BitVec 32) (k3_t245 : Fin (k3_t245_loop i v552 v557).trips) : Fin 2 → Nat :=
  let c256_i32_1147 : BitVec 32 := 256#32
  let c0_i32_1146 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let c1_i32_1196 : BitVec 32 := 1#32
  let arg13 : BitVec 32 := Scf.iv v1741 c1_i32_1196 k3_t245
  let v1836 : Index := Scalar.indexCast arg13
  let c32_1208 : Index := 32#32
  ![v1836.toNat, 32]
def k3_off982 (i : grid3.Coords) (v552 : BitVec 32) (v557 : BitVec 32) (k3_t245 : Fin (k3_t245_loop i v552 v557).trips) : Fin 2 → Nat :=
  let c256_i32_1147 : BitVec 32 := 256#32
  let c0_i32_1146 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let c1_i32_1196 : BitVec 32 := 1#32
  let arg13 : BitVec 32 := Scf.iv v1741 c1_i32_1196 k3_t245
  let v1840 : Index := Scalar.indexCast arg13
  let c48_1209 : Index := 48#32
  ![v1840.toNat, 48]
@[reducible] def k3_t246_loop (i : grid3.Coords) (v552 : BitVec 32) (v557 : BitVec 32) : Scf.Loop 32 :=
  let c256_i32_1147 : BitVec 32 := 256#32
  let c0_i32_1146 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let c256_i32_1150 : BitVec 32 := 256#32
  let c0_i32_1149 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c768_i32_1148 : BitVec 32 := 768#32
  let v1742 : BitVec 32 := Scalar.subi v560 c768_i32_1148
  let v1743 : BitVec 32 := Scalar.maxsi c0_i32_1149 v1742
  let v1744 : BitVec 32 := Scalar.minsi c256_i32_1150 v1743
  let v1805 : BitVec 32 := Scalar.subi v1744 v1741
  let c1_i32_1195 : BitVec 32 := 1#32
  let v1807 : BitVec 32 := Scalar.divsi v1805 c1_i32_1195
  let v1808 : BitVec 32 := Scalar.muli v1807 c1_i32_1195
  let v1809 : BitVec 32 := Scalar.addi v1741 v1808
  let v1806 : BitVec 32 := Scalar.addi v1741 v1805
  let c1_i32_1197 : BitVec 32 := 1#32
  ⟨v1809, v1806, c1_i32_1197⟩
def k3_off983 (i : grid3.Coords) (v552 : BitVec 32) (v557 : BitVec 32) (k3_t246 : Fin (k3_t246_loop i v552 v557).trips) : Fin 2 → Nat :=
  let c256_i32_1147 : BitVec 32 := 256#32
  let c0_i32_1146 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let c256_i32_1150 : BitVec 32 := 256#32
  let c0_i32_1149 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c768_i32_1148 : BitVec 32 := 768#32
  let v1742 : BitVec 32 := Scalar.subi v560 c768_i32_1148
  let v1743 : BitVec 32 := Scalar.maxsi c0_i32_1149 v1742
  let v1744 : BitVec 32 := Scalar.minsi c256_i32_1150 v1743
  let v1805 : BitVec 32 := Scalar.subi v1744 v1741
  let c1_i32_1195 : BitVec 32 := 1#32
  let v1807 : BitVec 32 := Scalar.divsi v1805 c1_i32_1195
  let v1808 : BitVec 32 := Scalar.muli v1807 c1_i32_1195
  let v1809 : BitVec 32 := Scalar.addi v1741 v1808
  let c1_i32_1197 : BitVec 32 := 1#32
  let arg13 : BitVec 32 := Scf.iv v1809 c1_i32_1197 k3_t246
  let v1828 : Index := Scalar.indexCast arg13
  let c0_1206 : Index := 0#32
  ![v1828.toNat, 0]
def k3_off984 (i : grid3.Coords) (v552 : BitVec 32) (v557 : BitVec 32) (k3_t246 : Fin (k3_t246_loop i v552 v557).trips) : Fin 2 → Nat :=
  let c256_i32_1147 : BitVec 32 := 256#32
  let c0_i32_1146 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let c256_i32_1150 : BitVec 32 := 256#32
  let c0_i32_1149 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c768_i32_1148 : BitVec 32 := 768#32
  let v1742 : BitVec 32 := Scalar.subi v560 c768_i32_1148
  let v1743 : BitVec 32 := Scalar.maxsi c0_i32_1149 v1742
  let v1744 : BitVec 32 := Scalar.minsi c256_i32_1150 v1743
  let v1805 : BitVec 32 := Scalar.subi v1744 v1741
  let c1_i32_1195 : BitVec 32 := 1#32
  let v1807 : BitVec 32 := Scalar.divsi v1805 c1_i32_1195
  let v1808 : BitVec 32 := Scalar.muli v1807 c1_i32_1195
  let v1809 : BitVec 32 := Scalar.addi v1741 v1808
  let c1_i32_1197 : BitVec 32 := 1#32
  let arg13 : BitVec 32 := Scf.iv v1809 c1_i32_1197 k3_t246
  let v1832 : Index := Scalar.indexCast arg13
  let c16_1207 : Index := 16#32
  ![v1832.toNat, 16]
def k3_off985 (i : grid3.Coords) (v552 : BitVec 32) (v557 : BitVec 32) (k3_t246 : Fin (k3_t246_loop i v552 v557).trips) : Fin 2 → Nat :=
  let c256_i32_1147 : BitVec 32 := 256#32
  let c0_i32_1146 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let c256_i32_1150 : BitVec 32 := 256#32
  let c0_i32_1149 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c768_i32_1148 : BitVec 32 := 768#32
  let v1742 : BitVec 32 := Scalar.subi v560 c768_i32_1148
  let v1743 : BitVec 32 := Scalar.maxsi c0_i32_1149 v1742
  let v1744 : BitVec 32 := Scalar.minsi c256_i32_1150 v1743
  let v1805 : BitVec 32 := Scalar.subi v1744 v1741
  let c1_i32_1195 : BitVec 32 := 1#32
  let v1807 : BitVec 32 := Scalar.divsi v1805 c1_i32_1195
  let v1808 : BitVec 32 := Scalar.muli v1807 c1_i32_1195
  let v1809 : BitVec 32 := Scalar.addi v1741 v1808
  let c1_i32_1197 : BitVec 32 := 1#32
  let arg13 : BitVec 32 := Scf.iv v1809 c1_i32_1197 k3_t246
  let v1836 : Index := Scalar.indexCast arg13
  let c32_1208 : Index := 32#32
  ![v1836.toNat, 32]
def k3_off986 (i : grid3.Coords) (v552 : BitVec 32) (v557 : BitVec 32) (k3_t246 : Fin (k3_t246_loop i v552 v557).trips) : Fin 2 → Nat :=
  let c256_i32_1147 : BitVec 32 := 256#32
  let c0_i32_1146 : BitVec 32 := 0#32
  let c1024_i32_241 : BitVec 32 := 1024#32
  let c0_i32_240 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v553 : BitVec 32 := Scalar.subi v552 v3
  let v554 : BitVec 32 := Scalar.maxsi c0_i32_240 v553
  let v555 : BitVec 32 := Scalar.minsi c1024_i32_241 v554
  let c768_i32_1145 : BitVec 32 := 768#32
  let v1739 : BitVec 32 := Scalar.subi v555 c768_i32_1145
  let v1740 : BitVec 32 := Scalar.maxsi c0_i32_1146 v1739
  let v1741 : BitVec 32 := Scalar.minsi c256_i32_1147 v1740
  let c256_i32_1150 : BitVec 32 := 256#32
  let c0_i32_1149 : BitVec 32 := 0#32
  let c1024_i32_243 : BitVec 32 := 1024#32
  let c0_i32_242 : BitVec 32 := 0#32
  let v558 : BitVec 32 := Scalar.subi v557 v3
  let v559 : BitVec 32 := Scalar.maxsi c0_i32_242 v558
  let v560 : BitVec 32 := Scalar.minsi c1024_i32_243 v559
  let c768_i32_1148 : BitVec 32 := 768#32
  let v1742 : BitVec 32 := Scalar.subi v560 c768_i32_1148
  let v1743 : BitVec 32 := Scalar.maxsi c0_i32_1149 v1742
  let v1744 : BitVec 32 := Scalar.minsi c256_i32_1150 v1743
  let v1805 : BitVec 32 := Scalar.subi v1744 v1741
  let c1_i32_1195 : BitVec 32 := 1#32
  let v1807 : BitVec 32 := Scalar.divsi v1805 c1_i32_1195
  let v1808 : BitVec 32 := Scalar.muli v1807 c1_i32_1195
  let v1809 : BitVec 32 := Scalar.addi v1741 v1808
  let c1_i32_1197 : BitVec 32 := 1#32
  let arg13 : BitVec 32 := Scf.iv v1809 c1_i32_1197 k3_t246
  let v1840 : Index := Scalar.indexCast arg13
  let c48_1209 : Index := 48#32
  ![v1840.toNat, 48]

def k3_chk27_0 (i : grid3.Coords) (v552 : BitVec 32) (v557 : BitVec 32) : Prop :=
  (∀ (k3_h27 : k3_cond27 i v552 v557 = 1#1), (k3_t53_loop i v552 v557).OK) ∧
  (∀ k3_t53 : Fin (k3_t53_loop i v552 v557).trips, ∀ (k3_h27 : k3_cond27 i v552 v557 = 1#1), ∀ a, (k3_off210 i v552 v557 k3_t53) a + S1x16.size a ≤ S256x128.size a) ∧
  (∀ k3_t53 : Fin (k3_t53_loop i v552 v557).trips, ∀ (k3_h27 : k3_cond27 i v552 v557 = 1#1), ∀ a, (k3_off211 i v552 v557 k3_t53) a + S1x16.size a ≤ S256x128.size a) ∧
  (∀ k3_t53 : Fin (k3_t53_loop i v552 v557).trips, ∀ (k3_h27 : k3_cond27 i v552 v557 = 1#1), ∀ a, (k3_off212 i v552 v557 k3_t53) a + S1x16.size a ≤ S256x128.size a) ∧
  (∀ k3_t53 : Fin (k3_t53_loop i v552 v557).trips, ∀ (k3_h27 : k3_cond27 i v552 v557 = 1#1), ∀ a, (k3_off213 i v552 v557 k3_t53) a + S1x16.size a ≤ S256x128.size a) ∧
  (∀ (k3_h27 : k3_cond27 i v552 v557 = 1#1), (k3_t54_loop i v552 v557).OK) ∧
  (∀ k3_t54 : Fin (k3_t54_loop i v552 v557).trips, ∀ (k3_h27 : k3_cond27 i v552 v557 = 1#1), ∀ a, (k3_off214 i v552 v557 k3_t54) a + S1x16.size a ≤ S256x128.size a) ∧
  (∀ k3_t54 : Fin (k3_t54_loop i v552 v557).trips, ∀ (k3_h27 : k3_cond27 i v552 v557 = 1#1), ∀ a, (k3_off215 i v552 v557 k3_t54) a + S1x16.size a ≤ S256x128.size a) ∧
  (∀ k3_t54 : Fin (k3_t54_loop i v552 v557).trips, ∀ (k3_h27 : k3_cond27 i v552 v557 = 1#1), ∀ a, (k3_off216 i v552 v557 k3_t54) a + S1x16.size a ≤ S256x128.size a) ∧
  (∀ k3_t54 : Fin (k3_t54_loop i v552 v557).trips, ∀ (k3_h27 : k3_cond27 i v552 v557 = 1#1), ∀ a, (k3_off217 i v552 v557 k3_t54) a + S1x16.size a ≤ S256x128.size a) ∧
  (∀ (k3_h59 : k3_cond59 i v552 v557 = 1#1), (k3_t117_loop i v552 v557).OK) ∧
  (∀ k3_t117 : Fin (k3_t117_loop i v552 v557).trips, ∀ (k3_h59 : k3_cond59 i v552 v557 = 1#1), ∀ a, (k3_off467 i v552 v557 k3_t117) a + S1x16.size a ≤ S256x128.size a) ∧
  (∀ k3_t117 : Fin (k3_t117_loop i v552 v557).trips, ∀ (k3_h59 : k3_cond59 i v552 v557 = 1#1), ∀ a, (k3_off468 i v552 v557 k3_t117) a + S1x16.size a ≤ S256x128.size a) ∧
  (∀ k3_t117 : Fin (k3_t117_loop i v552 v557).trips, ∀ (k3_h59 : k3_cond59 i v552 v557 = 1#1), ∀ a, (k3_off469 i v552 v557 k3_t117) a + S1x16.size a ≤ S256x128.size a) ∧
  (∀ k3_t117 : Fin (k3_t117_loop i v552 v557).trips, ∀ (k3_h59 : k3_cond59 i v552 v557 = 1#1), ∀ a, (k3_off470 i v552 v557 k3_t117) a + S1x16.size a ≤ S256x128.size a) ∧
  (∀ (k3_h59 : k3_cond59 i v552 v557 = 1#1), (k3_t118_loop i v552 v557).OK) ∧
  (∀ k3_t118 : Fin (k3_t118_loop i v552 v557).trips, ∀ (k3_h59 : k3_cond59 i v552 v557 = 1#1), ∀ a, (k3_off471 i v552 v557 k3_t118) a + S1x16.size a ≤ S256x128.size a) ∧
  (∀ k3_t118 : Fin (k3_t118_loop i v552 v557).trips, ∀ (k3_h59 : k3_cond59 i v552 v557 = 1#1), ∀ a, (k3_off472 i v552 v557 k3_t118) a + S1x16.size a ≤ S256x128.size a) ∧
  (∀ k3_t118 : Fin (k3_t118_loop i v552 v557).trips, ∀ (k3_h59 : k3_cond59 i v552 v557 = 1#1), ∀ a, (k3_off473 i v552 v557 k3_t118) a + S1x16.size a ≤ S256x128.size a) ∧
  (∀ k3_t118 : Fin (k3_t118_loop i v552 v557).trips, ∀ (k3_h59 : k3_cond59 i v552 v557 = 1#1), ∀ a, (k3_off474 i v552 v557 k3_t118) a + S1x16.size a ≤ S256x128.size a) ∧
  (∀ (k3_h91 : k3_cond91 i v552 v557 = 1#1), (k3_t181_loop i v552 v557).OK) ∧
  (∀ k3_t181 : Fin (k3_t181_loop i v552 v557).trips, ∀ (k3_h91 : k3_cond91 i v552 v557 = 1#1), ∀ a, (k3_off723 i v552 v557 k3_t181) a + S1x16.size a ≤ S256x128.size a) ∧
  (∀ k3_t181 : Fin (k3_t181_loop i v552 v557).trips, ∀ (k3_h91 : k3_cond91 i v552 v557 = 1#1), ∀ a, (k3_off724 i v552 v557 k3_t181) a + S1x16.size a ≤ S256x128.size a) ∧
  (∀ k3_t181 : Fin (k3_t181_loop i v552 v557).trips, ∀ (k3_h91 : k3_cond91 i v552 v557 = 1#1), ∀ a, (k3_off725 i v552 v557 k3_t181) a + S1x16.size a ≤ S256x128.size a) ∧
  (∀ k3_t181 : Fin (k3_t181_loop i v552 v557).trips, ∀ (k3_h91 : k3_cond91 i v552 v557 = 1#1), ∀ a, (k3_off726 i v552 v557 k3_t181) a + S1x16.size a ≤ S256x128.size a) ∧
  (∀ (k3_h91 : k3_cond91 i v552 v557 = 1#1), (k3_t182_loop i v552 v557).OK) ∧
  (∀ k3_t182 : Fin (k3_t182_loop i v552 v557).trips, ∀ (k3_h91 : k3_cond91 i v552 v557 = 1#1), ∀ a, (k3_off727 i v552 v557 k3_t182) a + S1x16.size a ≤ S256x128.size a) ∧
  (∀ k3_t182 : Fin (k3_t182_loop i v552 v557).trips, ∀ (k3_h91 : k3_cond91 i v552 v557 = 1#1), ∀ a, (k3_off728 i v552 v557 k3_t182) a + S1x16.size a ≤ S256x128.size a) ∧
  (∀ k3_t182 : Fin (k3_t182_loop i v552 v557).trips, ∀ (k3_h91 : k3_cond91 i v552 v557 = 1#1), ∀ a, (k3_off729 i v552 v557 k3_t182) a + S1x16.size a ≤ S256x128.size a) ∧
  (∀ k3_t182 : Fin (k3_t182_loop i v552 v557).trips, ∀ (k3_h91 : k3_cond91 i v552 v557 = 1#1), ∀ a, (k3_off730 i v552 v557 k3_t182) a + S1x16.size a ≤ S256x128.size a) ∧
  (∀ (k3_h123 : k3_cond123 i v552 v557 = 1#1), (k3_t245_loop i v552 v557).OK) ∧
  (∀ k3_t245 : Fin (k3_t245_loop i v552 v557).trips, ∀ (k3_h123 : k3_cond123 i v552 v557 = 1#1), ∀ a, (k3_off979 i v552 v557 k3_t245) a + S1x16.size a ≤ S256x128.size a)
def k3_chk27_1 (i : grid3.Coords) (v552 : BitVec 32) (v557 : BitVec 32) : Prop :=
  (∀ k3_t245 : Fin (k3_t245_loop i v552 v557).trips, ∀ (k3_h123 : k3_cond123 i v552 v557 = 1#1), ∀ a, (k3_off980 i v552 v557 k3_t245) a + S1x16.size a ≤ S256x128.size a) ∧
  (∀ k3_t245 : Fin (k3_t245_loop i v552 v557).trips, ∀ (k3_h123 : k3_cond123 i v552 v557 = 1#1), ∀ a, (k3_off981 i v552 v557 k3_t245) a + S1x16.size a ≤ S256x128.size a) ∧
  (∀ k3_t245 : Fin (k3_t245_loop i v552 v557).trips, ∀ (k3_h123 : k3_cond123 i v552 v557 = 1#1), ∀ a, (k3_off982 i v552 v557 k3_t245) a + S1x16.size a ≤ S256x128.size a) ∧
  (∀ (k3_h123 : k3_cond123 i v552 v557 = 1#1), (k3_t246_loop i v552 v557).OK) ∧
  (∀ k3_t246 : Fin (k3_t246_loop i v552 v557).trips, ∀ (k3_h123 : k3_cond123 i v552 v557 = 1#1), ∀ a, (k3_off983 i v552 v557 k3_t246) a + S1x16.size a ≤ S256x128.size a) ∧
  (∀ k3_t246 : Fin (k3_t246_loop i v552 v557).trips, ∀ (k3_h123 : k3_cond123 i v552 v557 = 1#1), ∀ a, (k3_off984 i v552 v557 k3_t246) a + S1x16.size a ≤ S256x128.size a) ∧
  (∀ k3_t246 : Fin (k3_t246_loop i v552 v557).trips, ∀ (k3_h123 : k3_cond123 i v552 v557 = 1#1), ∀ a, (k3_off985 i v552 v557 k3_t246) a + S1x16.size a ≤ S256x128.size a) ∧
  (∀ k3_t246 : Fin (k3_t246_loop i v552 v557).trips, ∀ (k3_h123 : k3_cond123 i v552 v557 = 1#1), ∀ a, (k3_off986 i v552 v557 k3_t246) a + S1x16.size a ≤ S256x128.size a)
def k3_chk27 (i : grid3.Coords) (v552 : BitVec 32) (v557 : BitVec 32) : Prop :=
  k3_chk27_0 i v552 v557 ∧
  k3_chk27_1 i v552 v557
theorem k3_t53_ok : ∀ (i : grid3.Coords) (v552 : BitVec 32) (v557 : BitVec 32) (k3_hw27 : k3_chk27 i v552 v557), ∀ (k3_h27 : k3_cond27 i v552 v557 = 1#1), (k3_t53_loop i v552 v557).OK := fun i v552 v557 k3_hw27 k3_h27 => k3_hw27.1.1 k3_h27
theorem k3_off210_inb : ∀ (i : grid3.Coords) (v552 : BitVec 32) (v557 : BitVec 32) (k3_hw27 : k3_chk27 i v552 v557) (k3_t53 : Fin (k3_t53_loop i v552 v557).trips), ∀ (k3_h27 : k3_cond27 i v552 v557 = 1#1), ∀ a, (k3_off210 i v552 v557 k3_t53) a + S1x16.size a ≤ S256x128.size a := fun i v552 v557 k3_hw27 k3_t53 k3_h27 => k3_hw27.1.2.1 k3_t53 k3_h27
theorem k3_off211_inb : ∀ (i : grid3.Coords) (v552 : BitVec 32) (v557 : BitVec 32) (k3_hw27 : k3_chk27 i v552 v557) (k3_t53 : Fin (k3_t53_loop i v552 v557).trips), ∀ (k3_h27 : k3_cond27 i v552 v557 = 1#1), ∀ a, (k3_off211 i v552 v557 k3_t53) a + S1x16.size a ≤ S256x128.size a := fun i v552 v557 k3_hw27 k3_t53 k3_h27 => k3_hw27.1.2.2.1 k3_t53 k3_h27
theorem k3_off212_inb : ∀ (i : grid3.Coords) (v552 : BitVec 32) (v557 : BitVec 32) (k3_hw27 : k3_chk27 i v552 v557) (k3_t53 : Fin (k3_t53_loop i v552 v557).trips), ∀ (k3_h27 : k3_cond27 i v552 v557 = 1#1), ∀ a, (k3_off212 i v552 v557 k3_t53) a + S1x16.size a ≤ S256x128.size a := fun i v552 v557 k3_hw27 k3_t53 k3_h27 => k3_hw27.1.2.2.2.1 k3_t53 k3_h27
theorem k3_off213_inb : ∀ (i : grid3.Coords) (v552 : BitVec 32) (v557 : BitVec 32) (k3_hw27 : k3_chk27 i v552 v557) (k3_t53 : Fin (k3_t53_loop i v552 v557).trips), ∀ (k3_h27 : k3_cond27 i v552 v557 = 1#1), ∀ a, (k3_off213 i v552 v557 k3_t53) a + S1x16.size a ≤ S256x128.size a := fun i v552 v557 k3_hw27 k3_t53 k3_h27 => k3_hw27.1.2.2.2.2.1 k3_t53 k3_h27
theorem k3_t54_ok : ∀ (i : grid3.Coords) (v552 : BitVec 32) (v557 : BitVec 32) (k3_hw27 : k3_chk27 i v552 v557), ∀ (k3_h27 : k3_cond27 i v552 v557 = 1#1), (k3_t54_loop i v552 v557).OK := fun i v552 v557 k3_hw27 k3_h27 => k3_hw27.1.2.2.2.2.2.1 k3_h27
theorem k3_off214_inb : ∀ (i : grid3.Coords) (v552 : BitVec 32) (v557 : BitVec 32) (k3_hw27 : k3_chk27 i v552 v557) (k3_t54 : Fin (k3_t54_loop i v552 v557).trips), ∀ (k3_h27 : k3_cond27 i v552 v557 = 1#1), ∀ a, (k3_off214 i v552 v557 k3_t54) a + S1x16.size a ≤ S256x128.size a := fun i v552 v557 k3_hw27 k3_t54 k3_h27 => k3_hw27.1.2.2.2.2.2.2.1 k3_t54 k3_h27
theorem k3_off215_inb : ∀ (i : grid3.Coords) (v552 : BitVec 32) (v557 : BitVec 32) (k3_hw27 : k3_chk27 i v552 v557) (k3_t54 : Fin (k3_t54_loop i v552 v557).trips), ∀ (k3_h27 : k3_cond27 i v552 v557 = 1#1), ∀ a, (k3_off215 i v552 v557 k3_t54) a + S1x16.size a ≤ S256x128.size a := fun i v552 v557 k3_hw27 k3_t54 k3_h27 => k3_hw27.1.2.2.2.2.2.2.2.1 k3_t54 k3_h27
theorem k3_off216_inb : ∀ (i : grid3.Coords) (v552 : BitVec 32) (v557 : BitVec 32) (k3_hw27 : k3_chk27 i v552 v557) (k3_t54 : Fin (k3_t54_loop i v552 v557).trips), ∀ (k3_h27 : k3_cond27 i v552 v557 = 1#1), ∀ a, (k3_off216 i v552 v557 k3_t54) a + S1x16.size a ≤ S256x128.size a := fun i v552 v557 k3_hw27 k3_t54 k3_h27 => k3_hw27.1.2.2.2.2.2.2.2.2.1 k3_t54 k3_h27
theorem k3_off217_inb : ∀ (i : grid3.Coords) (v552 : BitVec 32) (v557 : BitVec 32) (k3_hw27 : k3_chk27 i v552 v557) (k3_t54 : Fin (k3_t54_loop i v552 v557).trips), ∀ (k3_h27 : k3_cond27 i v552 v557 = 1#1), ∀ a, (k3_off217 i v552 v557 k3_t54) a + S1x16.size a ≤ S256x128.size a := fun i v552 v557 k3_hw27 k3_t54 k3_h27 => k3_hw27.1.2.2.2.2.2.2.2.2.2.1 k3_t54 k3_h27
theorem k3_t117_ok : ∀ (i : grid3.Coords) (v552 : BitVec 32) (v557 : BitVec 32) (k3_hw27 : k3_chk27 i v552 v557), ∀ (k3_h59 : k3_cond59 i v552 v557 = 1#1), (k3_t117_loop i v552 v557).OK := fun i v552 v557 k3_hw27 k3_h59 => k3_hw27.1.2.2.2.2.2.2.2.2.2.2.1 k3_h59
theorem k3_off467_inb : ∀ (i : grid3.Coords) (v552 : BitVec 32) (v557 : BitVec 32) (k3_hw27 : k3_chk27 i v552 v557) (k3_t117 : Fin (k3_t117_loop i v552 v557).trips), ∀ (k3_h59 : k3_cond59 i v552 v557 = 1#1), ∀ a, (k3_off467 i v552 v557 k3_t117) a + S1x16.size a ≤ S256x128.size a := fun i v552 v557 k3_hw27 k3_t117 k3_h59 => k3_hw27.1.2.2.2.2.2.2.2.2.2.2.2.1 k3_t117 k3_h59
theorem k3_off468_inb : ∀ (i : grid3.Coords) (v552 : BitVec 32) (v557 : BitVec 32) (k3_hw27 : k3_chk27 i v552 v557) (k3_t117 : Fin (k3_t117_loop i v552 v557).trips), ∀ (k3_h59 : k3_cond59 i v552 v557 = 1#1), ∀ a, (k3_off468 i v552 v557 k3_t117) a + S1x16.size a ≤ S256x128.size a := fun i v552 v557 k3_hw27 k3_t117 k3_h59 => k3_hw27.1.2.2.2.2.2.2.2.2.2.2.2.2.1 k3_t117 k3_h59
theorem k3_off469_inb : ∀ (i : grid3.Coords) (v552 : BitVec 32) (v557 : BitVec 32) (k3_hw27 : k3_chk27 i v552 v557) (k3_t117 : Fin (k3_t117_loop i v552 v557).trips), ∀ (k3_h59 : k3_cond59 i v552 v557 = 1#1), ∀ a, (k3_off469 i v552 v557 k3_t117) a + S1x16.size a ≤ S256x128.size a := fun i v552 v557 k3_hw27 k3_t117 k3_h59 => k3_hw27.1.2.2.2.2.2.2.2.2.2.2.2.2.2.1 k3_t117 k3_h59
theorem k3_off470_inb : ∀ (i : grid3.Coords) (v552 : BitVec 32) (v557 : BitVec 32) (k3_hw27 : k3_chk27 i v552 v557) (k3_t117 : Fin (k3_t117_loop i v552 v557).trips), ∀ (k3_h59 : k3_cond59 i v552 v557 = 1#1), ∀ a, (k3_off470 i v552 v557 k3_t117) a + S1x16.size a ≤ S256x128.size a := fun i v552 v557 k3_hw27 k3_t117 k3_h59 => k3_hw27.1.2.2.2.2.2.2.2.2.2.2.2.2.2.2.1 k3_t117 k3_h59
theorem k3_t118_ok : ∀ (i : grid3.Coords) (v552 : BitVec 32) (v557 : BitVec 32) (k3_hw27 : k3_chk27 i v552 v557), ∀ (k3_h59 : k3_cond59 i v552 v557 = 1#1), (k3_t118_loop i v552 v557).OK := fun i v552 v557 k3_hw27 k3_h59 => k3_hw27.1.2.2.2.2.2.2.2.2.2.2.2.2.2.2.2.1 k3_h59
theorem k3_off471_inb : ∀ (i : grid3.Coords) (v552 : BitVec 32) (v557 : BitVec 32) (k3_hw27 : k3_chk27 i v552 v557) (k3_t118 : Fin (k3_t118_loop i v552 v557).trips), ∀ (k3_h59 : k3_cond59 i v552 v557 = 1#1), ∀ a, (k3_off471 i v552 v557 k3_t118) a + S1x16.size a ≤ S256x128.size a := fun i v552 v557 k3_hw27 k3_t118 k3_h59 => k3_hw27.1.2.2.2.2.2.2.2.2.2.2.2.2.2.2.2.2.1 k3_t118 k3_h59
theorem k3_off472_inb : ∀ (i : grid3.Coords) (v552 : BitVec 32) (v557 : BitVec 32) (k3_hw27 : k3_chk27 i v552 v557) (k3_t118 : Fin (k3_t118_loop i v552 v557).trips), ∀ (k3_h59 : k3_cond59 i v552 v557 = 1#1), ∀ a, (k3_off472 i v552 v557 k3_t118) a + S1x16.size a ≤ S256x128.size a := fun i v552 v557 k3_hw27 k3_t118 k3_h59 => k3_hw27.1.2.2.2.2.2.2.2.2.2.2.2.2.2.2.2.2.2.1 k3_t118 k3_h59
theorem k3_off473_inb : ∀ (i : grid3.Coords) (v552 : BitVec 32) (v557 : BitVec 32) (k3_hw27 : k3_chk27 i v552 v557) (k3_t118 : Fin (k3_t118_loop i v552 v557).trips), ∀ (k3_h59 : k3_cond59 i v552 v557 = 1#1), ∀ a, (k3_off473 i v552 v557 k3_t118) a + S1x16.size a ≤ S256x128.size a := fun i v552 v557 k3_hw27 k3_t118 k3_h59 => k3_hw27.1.2.2.2.2.2.2.2.2.2.2.2.2.2.2.2.2.2.2.1 k3_t118 k3_h59
theorem k3_off474_inb : ∀ (i : grid3.Coords) (v552 : BitVec 32) (v557 : BitVec 32) (k3_hw27 : k3_chk27 i v552 v557) (k3_t118 : Fin (k3_t118_loop i v552 v557).trips), ∀ (k3_h59 : k3_cond59 i v552 v557 = 1#1), ∀ a, (k3_off474 i v552 v557 k3_t118) a + S1x16.size a ≤ S256x128.size a := fun i v552 v557 k3_hw27 k3_t118 k3_h59 => k3_hw27.1.2.2.2.2.2.2.2.2.2.2.2.2.2.2.2.2.2.2.2.1 k3_t118 k3_h59
theorem k3_t181_ok : ∀ (i : grid3.Coords) (v552 : BitVec 32) (v557 : BitVec 32) (k3_hw27 : k3_chk27 i v552 v557), ∀ (k3_h91 : k3_cond91 i v552 v557 = 1#1), (k3_t181_loop i v552 v557).OK := fun i v552 v557 k3_hw27 k3_h91 => k3_hw27.1.2.2.2.2.2.2.2.2.2.2.2.2.2.2.2.2.2.2.2.2.1 k3_h91
theorem k3_off723_inb : ∀ (i : grid3.Coords) (v552 : BitVec 32) (v557 : BitVec 32) (k3_hw27 : k3_chk27 i v552 v557) (k3_t181 : Fin (k3_t181_loop i v552 v557).trips), ∀ (k3_h91 : k3_cond91 i v552 v557 = 1#1), ∀ a, (k3_off723 i v552 v557 k3_t181) a + S1x16.size a ≤ S256x128.size a := fun i v552 v557 k3_hw27 k3_t181 k3_h91 => k3_hw27.1.2.2.2.2.2.2.2.2.2.2.2.2.2.2.2.2.2.2.2.2.2.1 k3_t181 k3_h91
theorem k3_off724_inb : ∀ (i : grid3.Coords) (v552 : BitVec 32) (v557 : BitVec 32) (k3_hw27 : k3_chk27 i v552 v557) (k3_t181 : Fin (k3_t181_loop i v552 v557).trips), ∀ (k3_h91 : k3_cond91 i v552 v557 = 1#1), ∀ a, (k3_off724 i v552 v557 k3_t181) a + S1x16.size a ≤ S256x128.size a := fun i v552 v557 k3_hw27 k3_t181 k3_h91 => k3_hw27.1.2.2.2.2.2.2.2.2.2.2.2.2.2.2.2.2.2.2.2.2.2.2.1 k3_t181 k3_h91
theorem k3_off725_inb : ∀ (i : grid3.Coords) (v552 : BitVec 32) (v557 : BitVec 32) (k3_hw27 : k3_chk27 i v552 v557) (k3_t181 : Fin (k3_t181_loop i v552 v557).trips), ∀ (k3_h91 : k3_cond91 i v552 v557 = 1#1), ∀ a, (k3_off725 i v552 v557 k3_t181) a + S1x16.size a ≤ S256x128.size a := fun i v552 v557 k3_hw27 k3_t181 k3_h91 => k3_hw27.1.2.2.2.2.2.2.2.2.2.2.2.2.2.2.2.2.2.2.2.2.2.2.2.1 k3_t181 k3_h91
theorem k3_off726_inb : ∀ (i : grid3.Coords) (v552 : BitVec 32) (v557 : BitVec 32) (k3_hw27 : k3_chk27 i v552 v557) (k3_t181 : Fin (k3_t181_loop i v552 v557).trips), ∀ (k3_h91 : k3_cond91 i v552 v557 = 1#1), ∀ a, (k3_off726 i v552 v557 k3_t181) a + S1x16.size a ≤ S256x128.size a := fun i v552 v557 k3_hw27 k3_t181 k3_h91 => k3_hw27.1.2.2.2.2.2.2.2.2.2.2.2.2.2.2.2.2.2.2.2.2.2.2.2.2.1 k3_t181 k3_h91
theorem k3_t182_ok : ∀ (i : grid3.Coords) (v552 : BitVec 32) (v557 : BitVec 32) (k3_hw27 : k3_chk27 i v552 v557), ∀ (k3_h91 : k3_cond91 i v552 v557 = 1#1), (k3_t182_loop i v552 v557).OK := fun i v552 v557 k3_hw27 k3_h91 => k3_hw27.1.2.2.2.2.2.2.2.2.2.2.2.2.2.2.2.2.2.2.2.2.2.2.2.2.2.1 k3_h91
theorem k3_off727_inb : ∀ (i : grid3.Coords) (v552 : BitVec 32) (v557 : BitVec 32) (k3_hw27 : k3_chk27 i v552 v557) (k3_t182 : Fin (k3_t182_loop i v552 v557).trips), ∀ (k3_h91 : k3_cond91 i v552 v557 = 1#1), ∀ a, (k3_off727 i v552 v557 k3_t182) a + S1x16.size a ≤ S256x128.size a := fun i v552 v557 k3_hw27 k3_t182 k3_h91 => k3_hw27.1.2.2.2.2.2.2.2.2.2.2.2.2.2.2.2.2.2.2.2.2.2.2.2.2.2.2.1 k3_t182 k3_h91
theorem k3_off728_inb : ∀ (i : grid3.Coords) (v552 : BitVec 32) (v557 : BitVec 32) (k3_hw27 : k3_chk27 i v552 v557) (k3_t182 : Fin (k3_t182_loop i v552 v557).trips), ∀ (k3_h91 : k3_cond91 i v552 v557 = 1#1), ∀ a, (k3_off728 i v552 v557 k3_t182) a + S1x16.size a ≤ S256x128.size a := fun i v552 v557 k3_hw27 k3_t182 k3_h91 => k3_hw27.1.2.2.2.2.2.2.2.2.2.2.2.2.2.2.2.2.2.2.2.2.2.2.2.2.2.2.2.1 k3_t182 k3_h91
theorem k3_off729_inb : ∀ (i : grid3.Coords) (v552 : BitVec 32) (v557 : BitVec 32) (k3_hw27 : k3_chk27 i v552 v557) (k3_t182 : Fin (k3_t182_loop i v552 v557).trips), ∀ (k3_h91 : k3_cond91 i v552 v557 = 1#1), ∀ a, (k3_off729 i v552 v557 k3_t182) a + S1x16.size a ≤ S256x128.size a := fun i v552 v557 k3_hw27 k3_t182 k3_h91 => k3_hw27.1.2.2.2.2.2.2.2.2.2.2.2.2.2.2.2.2.2.2.2.2.2.2.2.2.2.2.2.2.1 k3_t182 k3_h91
theorem k3_off730_inb : ∀ (i : grid3.Coords) (v552 : BitVec 32) (v557 : BitVec 32) (k3_hw27 : k3_chk27 i v552 v557) (k3_t182 : Fin (k3_t182_loop i v552 v557).trips), ∀ (k3_h91 : k3_cond91 i v552 v557 = 1#1), ∀ a, (k3_off730 i v552 v557 k3_t182) a + S1x16.size a ≤ S256x128.size a := fun i v552 v557 k3_hw27 k3_t182 k3_h91 => k3_hw27.1.2.2.2.2.2.2.2.2.2.2.2.2.2.2.2.2.2.2.2.2.2.2.2.2.2.2.2.2.2.1 k3_t182 k3_h91
theorem k3_t245_ok : ∀ (i : grid3.Coords) (v552 : BitVec 32) (v557 : BitVec 32) (k3_hw27 : k3_chk27 i v552 v557), ∀ (k3_h123 : k3_cond123 i v552 v557 = 1#1), (k3_t245_loop i v552 v557).OK := fun i v552 v557 k3_hw27 k3_h123 => k3_hw27.1.2.2.2.2.2.2.2.2.2.2.2.2.2.2.2.2.2.2.2.2.2.2.2.2.2.2.2.2.2.2.1 k3_h123
theorem k3_off979_inb : ∀ (i : grid3.Coords) (v552 : BitVec 32) (v557 : BitVec 32) (k3_hw27 : k3_chk27 i v552 v557) (k3_t245 : Fin (k3_t245_loop i v552 v557).trips), ∀ (k3_h123 : k3_cond123 i v552 v557 = 1#1), ∀ a, (k3_off979 i v552 v557 k3_t245) a + S1x16.size a ≤ S256x128.size a := fun i v552 v557 k3_hw27 k3_t245 k3_h123 => k3_hw27.1.2.2.2.2.2.2.2.2.2.2.2.2.2.2.2.2.2.2.2.2.2.2.2.2.2.2.2.2.2.2.2 k3_t245 k3_h123
theorem k3_off980_inb : ∀ (i : grid3.Coords) (v552 : BitVec 32) (v557 : BitVec 32) (k3_hw27 : k3_chk27 i v552 v557) (k3_t245 : Fin (k3_t245_loop i v552 v557).trips), ∀ (k3_h123 : k3_cond123 i v552 v557 = 1#1), ∀ a, (k3_off980 i v552 v557 k3_t245) a + S1x16.size a ≤ S256x128.size a := fun i v552 v557 k3_hw27 k3_t245 k3_h123 => k3_hw27.2.1 k3_t245 k3_h123
theorem k3_off981_inb : ∀ (i : grid3.Coords) (v552 : BitVec 32) (v557 : BitVec 32) (k3_hw27 : k3_chk27 i v552 v557) (k3_t245 : Fin (k3_t245_loop i v552 v557).trips), ∀ (k3_h123 : k3_cond123 i v552 v557 = 1#1), ∀ a, (k3_off981 i v552 v557 k3_t245) a + S1x16.size a ≤ S256x128.size a := fun i v552 v557 k3_hw27 k3_t245 k3_h123 => k3_hw27.2.2.1 k3_t245 k3_h123
theorem k3_off982_inb : ∀ (i : grid3.Coords) (v552 : BitVec 32) (v557 : BitVec 32) (k3_hw27 : k3_chk27 i v552 v557) (k3_t245 : Fin (k3_t245_loop i v552 v557).trips), ∀ (k3_h123 : k3_cond123 i v552 v557 = 1#1), ∀ a, (k3_off982 i v552 v557 k3_t245) a + S1x16.size a ≤ S256x128.size a := fun i v552 v557 k3_hw27 k3_t245 k3_h123 => k3_hw27.2.2.2.1 k3_t245 k3_h123
theorem k3_t246_ok : ∀ (i : grid3.Coords) (v552 : BitVec 32) (v557 : BitVec 32) (k3_hw27 : k3_chk27 i v552 v557), ∀ (k3_h123 : k3_cond123 i v552 v557 = 1#1), (k3_t246_loop i v552 v557).OK := fun i v552 v557 k3_hw27 k3_h123 => k3_hw27.2.2.2.2.1 k3_h123
theorem k3_off983_inb : ∀ (i : grid3.Coords) (v552 : BitVec 32) (v557 : BitVec 32) (k3_hw27 : k3_chk27 i v552 v557) (k3_t246 : Fin (k3_t246_loop i v552 v557).trips), ∀ (k3_h123 : k3_cond123 i v552 v557 = 1#1), ∀ a, (k3_off983 i v552 v557 k3_t246) a + S1x16.size a ≤ S256x128.size a := fun i v552 v557 k3_hw27 k3_t246 k3_h123 => k3_hw27.2.2.2.2.2.1 k3_t246 k3_h123
theorem k3_off984_inb : ∀ (i : grid3.Coords) (v552 : BitVec 32) (v557 : BitVec 32) (k3_hw27 : k3_chk27 i v552 v557) (k3_t246 : Fin (k3_t246_loop i v552 v557).trips), ∀ (k3_h123 : k3_cond123 i v552 v557 = 1#1), ∀ a, (k3_off984 i v552 v557 k3_t246) a + S1x16.size a ≤ S256x128.size a := fun i v552 v557 k3_hw27 k3_t246 k3_h123 => k3_hw27.2.2.2.2.2.2.1 k3_t246 k3_h123
theorem k3_off985_inb : ∀ (i : grid3.Coords) (v552 : BitVec 32) (v557 : BitVec 32) (k3_hw27 : k3_chk27 i v552 v557) (k3_t246 : Fin (k3_t246_loop i v552 v557).trips), ∀ (k3_h123 : k3_cond123 i v552 v557 = 1#1), ∀ a, (k3_off985 i v552 v557 k3_t246) a + S1x16.size a ≤ S256x128.size a := fun i v552 v557 k3_hw27 k3_t246 k3_h123 => k3_hw27.2.2.2.2.2.2.2.1 k3_t246 k3_h123
theorem k3_off986_inb : ∀ (i : grid3.Coords) (v552 : BitVec 32) (v557 : BitVec 32) (k3_hw27 : k3_chk27 i v552 v557) (k3_t246 : Fin (k3_t246_loop i v552 v557).trips), ∀ (k3_h123 : k3_cond123 i v552 v557 = 1#1), ∀ a, (k3_off986 i v552 v557 k3_t246) a + S1x16.size a ≤ S256x128.size a := fun i v552 v557 k3_hw27 k3_t246 k3_h123 => k3_hw27.2.2.2.2.2.2.2.2 k3_t246 k3_h123

@[reducible] def k3_t247_loop (i : grid3.Coords) (v562 : BitVec 32) (v568 : BitVec 32) : Scf.Loop 32 :=
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let c256_i32_1157 : BitVec 32 := 256#32
  let c0_i32_1156 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c768_i32_1155 : BitVec 32 := 768#32
  let v1751 : BitVec 32 := Scalar.subi v572 c768_i32_1155
  let v1752 : BitVec 32 := Scalar.maxsi c0_i32_1156 v1751
  let v1753 : BitVec 32 := Scalar.minsi c256_i32_1157 v1752
  let v1805 : BitVec 32 := Scalar.subi v1753 v1750
  let c1_i32_1195 : BitVec 32 := 1#32
  let v1807 : BitVec 32 := Scalar.divsi v1805 c1_i32_1195
  let v1808 : BitVec 32 := Scalar.muli v1807 c1_i32_1195
  let v1809 : BitVec 32 := Scalar.addi v1750 v1808
  let c1_i32_1196 : BitVec 32 := 1#32
  ⟨v1750, v1809, c1_i32_1196⟩
def k3_cond124 (i : grid3.Coords) (v562 : BitVec 32) (v568 : BitVec 32) : BitVec 1 :=
  let c256_i32_1157 : BitVec 32 := 256#32
  let c0_i32_1156 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v570 : BitVec 32 := Scalar.subi v569 v3
  let v571 : BitVec 32 := Scalar.maxsi c0_i32_248 v570
  let v572 : BitVec 32 := Scalar.minsi c1024_i32_249 v571
  let c768_i32_1155 : BitVec 32 := 768#32
  let v1751 : BitVec 32 := Scalar.subi v572 c768_i32_1155
  let v1752 : BitVec 32 := Scalar.maxsi c0_i32_1156 v1751
  let v1753 : BitVec 32 := Scalar.minsi c256_i32_1157 v1752
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let v1754 : BitVec 1 := Scalar.cmpi .sgt v1753 v1750
  let v1755 : BitVec 32 := Scalar.extui v1754
  let c0_i32_1158 : BitVec 32 := 0#32
  let v1756 : BitVec 1 := Scalar.cmpi .ne v1755 c0_i32_1158
  v1756

def k3_off987 (i : grid3.Coords) (v562 : BitVec 32) (v568 : BitVec 32) (k3_t247 : Fin (k3_t247_loop i v562 v568).trips) : Fin 2 → Nat :=
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let c1_i32_1196 : BitVec 32 := 1#32
  let arg13 : BitVec 32 := Scf.iv v1750 c1_i32_1196 k3_t247
  let v1828 : Index := Scalar.indexCast arg13
  let c64 : Index := 64#32
  ![v1828.toNat, 64]
def k3_off988 (i : grid3.Coords) (v562 : BitVec 32) (v568 : BitVec 32) (k3_t247 : Fin (k3_t247_loop i v562 v568).trips) : Fin 2 → Nat :=
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let c1_i32_1196 : BitVec 32 := 1#32
  let arg13 : BitVec 32 := Scf.iv v1750 c1_i32_1196 k3_t247
  let v1832 : Index := Scalar.indexCast arg13
  let c80 : Index := 80#32
  ![v1832.toNat, 80]
def k3_off989 (i : grid3.Coords) (v562 : BitVec 32) (v568 : BitVec 32) (k3_t247 : Fin (k3_t247_loop i v562 v568).trips) : Fin 2 → Nat :=
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let c1_i32_1196 : BitVec 32 := 1#32
  let arg13 : BitVec 32 := Scf.iv v1750 c1_i32_1196 k3_t247
  let v1836 : Index := Scalar.indexCast arg13
  let c96 : Index := 96#32
  ![v1836.toNat, 96]
def k3_off990 (i : grid3.Coords) (v562 : BitVec 32) (v568 : BitVec 32) (k3_t247 : Fin (k3_t247_loop i v562 v568).trips) : Fin 2 → Nat :=
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let c1_i32_1196 : BitVec 32 := 1#32
  let arg13 : BitVec 32 := Scf.iv v1750 c1_i32_1196 k3_t247
  let v1840 : Index := Scalar.indexCast arg13
  let c112 : Index := 112#32
  ![v1840.toNat, 112]
@[reducible] def k3_t248_loop (i : grid3.Coords) (v562 : BitVec 32) (v568 : BitVec 32) : Scf.Loop 32 :=
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let c256_i32_1157 : BitVec 32 := 256#32
  let c0_i32_1156 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c768_i32_1155 : BitVec 32 := 768#32
  let v1751 : BitVec 32 := Scalar.subi v572 c768_i32_1155
  let v1752 : BitVec 32 := Scalar.maxsi c0_i32_1156 v1751
  let v1753 : BitVec 32 := Scalar.minsi c256_i32_1157 v1752
  let v1805 : BitVec 32 := Scalar.subi v1753 v1750
  let c1_i32_1195 : BitVec 32 := 1#32
  let v1807 : BitVec 32 := Scalar.divsi v1805 c1_i32_1195
  let v1808 : BitVec 32 := Scalar.muli v1807 c1_i32_1195
  let v1809 : BitVec 32 := Scalar.addi v1750 v1808
  let v1806 : BitVec 32 := Scalar.addi v1750 v1805
  let c1_i32_1197 : BitVec 32 := 1#32
  ⟨v1809, v1806, c1_i32_1197⟩
def k3_off991 (i : grid3.Coords) (v562 : BitVec 32) (v568 : BitVec 32) (k3_t248 : Fin (k3_t248_loop i v562 v568).trips) : Fin 2 → Nat :=
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let c256_i32_1157 : BitVec 32 := 256#32
  let c0_i32_1156 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c768_i32_1155 : BitVec 32 := 768#32
  let v1751 : BitVec 32 := Scalar.subi v572 c768_i32_1155
  let v1752 : BitVec 32 := Scalar.maxsi c0_i32_1156 v1751
  let v1753 : BitVec 32 := Scalar.minsi c256_i32_1157 v1752
  let v1805 : BitVec 32 := Scalar.subi v1753 v1750
  let c1_i32_1195 : BitVec 32 := 1#32
  let v1807 : BitVec 32 := Scalar.divsi v1805 c1_i32_1195
  let v1808 : BitVec 32 := Scalar.muli v1807 c1_i32_1195
  let v1809 : BitVec 32 := Scalar.addi v1750 v1808
  let c1_i32_1197 : BitVec 32 := 1#32
  let arg13 : BitVec 32 := Scf.iv v1809 c1_i32_1197 k3_t248
  let v1828 : Index := Scalar.indexCast arg13
  let c64 : Index := 64#32
  ![v1828.toNat, 64]
def k3_off992 (i : grid3.Coords) (v562 : BitVec 32) (v568 : BitVec 32) (k3_t248 : Fin (k3_t248_loop i v562 v568).trips) : Fin 2 → Nat :=
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let c256_i32_1157 : BitVec 32 := 256#32
  let c0_i32_1156 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c768_i32_1155 : BitVec 32 := 768#32
  let v1751 : BitVec 32 := Scalar.subi v572 c768_i32_1155
  let v1752 : BitVec 32 := Scalar.maxsi c0_i32_1156 v1751
  let v1753 : BitVec 32 := Scalar.minsi c256_i32_1157 v1752
  let v1805 : BitVec 32 := Scalar.subi v1753 v1750
  let c1_i32_1195 : BitVec 32 := 1#32
  let v1807 : BitVec 32 := Scalar.divsi v1805 c1_i32_1195
  let v1808 : BitVec 32 := Scalar.muli v1807 c1_i32_1195
  let v1809 : BitVec 32 := Scalar.addi v1750 v1808
  let c1_i32_1197 : BitVec 32 := 1#32
  let arg13 : BitVec 32 := Scf.iv v1809 c1_i32_1197 k3_t248
  let v1832 : Index := Scalar.indexCast arg13
  let c80 : Index := 80#32
  ![v1832.toNat, 80]
def k3_off993 (i : grid3.Coords) (v562 : BitVec 32) (v568 : BitVec 32) (k3_t248 : Fin (k3_t248_loop i v562 v568).trips) : Fin 2 → Nat :=
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let c256_i32_1157 : BitVec 32 := 256#32
  let c0_i32_1156 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c768_i32_1155 : BitVec 32 := 768#32
  let v1751 : BitVec 32 := Scalar.subi v572 c768_i32_1155
  let v1752 : BitVec 32 := Scalar.maxsi c0_i32_1156 v1751
  let v1753 : BitVec 32 := Scalar.minsi c256_i32_1157 v1752
  let v1805 : BitVec 32 := Scalar.subi v1753 v1750
  let c1_i32_1195 : BitVec 32 := 1#32
  let v1807 : BitVec 32 := Scalar.divsi v1805 c1_i32_1195
  let v1808 : BitVec 32 := Scalar.muli v1807 c1_i32_1195
  let v1809 : BitVec 32 := Scalar.addi v1750 v1808
  let c1_i32_1197 : BitVec 32 := 1#32
  let arg13 : BitVec 32 := Scf.iv v1809 c1_i32_1197 k3_t248
  let v1836 : Index := Scalar.indexCast arg13
  let c96 : Index := 96#32
  ![v1836.toNat, 96]
def k3_off994 (i : grid3.Coords) (v562 : BitVec 32) (v568 : BitVec 32) (k3_t248 : Fin (k3_t248_loop i v562 v568).trips) : Fin 2 → Nat :=
  let c256_i32_1154 : BitVec 32 := 256#32
  let c0_i32_1153 : BitVec 32 := 0#32
  let c1024_i32_246 : BitVec 32 := 1024#32
  let c0_i32_245 : BitVec 32 := 0#32
  let c65536_i32_244 : BitVec 32 := 65536#32
  let v563 : BitVec 32 := Scalar.subi v562 c65536_i32_244
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v564 : BitVec 32 := Scalar.subi v563 v3
  let v565 : BitVec 32 := Scalar.maxsi c0_i32_245 v564
  let v566 : BitVec 32 := Scalar.minsi c1024_i32_246 v565
  let c768_i32_1152 : BitVec 32 := 768#32
  let v1748 : BitVec 32 := Scalar.subi v566 c768_i32_1152
  let v1749 : BitVec 32 := Scalar.maxsi c0_i32_1153 v1748
  let v1750 : BitVec 32 := Scalar.minsi c256_i32_1154 v1749
  let c256_i32_1157 : BitVec 32 := 256#32
  let c0_i32_1156 : BitVec 32 := 0#32
  let c1024_i32_249 : BitVec 32 := 1024#32
  let c0_i32_248 : BitVec 32 := 0#32
  let c65536_i32_247 : BitVec 32 := 65536#32
  let v569 : BitVec 32 := Scalar.subi v568 c65536_i32_247
  let v570 : BitVec 32 := Scalar.subi v569 v3
  let v571 : BitVec 32 := Scalar.maxsi c0_i32_248 v570
  let v572 : BitVec 32 := Scalar.minsi c1024_i32_249 v571
  let c768_i32_1155 : BitVec 32 := 768#32
  let v1751 : BitVec 32 := Scalar.subi v572 c768_i32_1155
  let v1752 : BitVec 32 := Scalar.maxsi c0_i32_1156 v1751
  let v1753 : BitVec 32 := Scalar.minsi c256_i32_1157 v1752
  let v1805 : BitVec 32 := Scalar.subi v1753 v1750
  let c1_i32_1195 : BitVec 32 := 1#32
  let v1807 : BitVec 32 := Scalar.divsi v1805 c1_i32_1195
  let v1808 : BitVec 32 := Scalar.muli v1807 c1_i32_1195
  let v1809 : BitVec 32 := Scalar.addi v1750 v1808
  let c1_i32_1197 : BitVec 32 := 1#32
  let arg13 : BitVec 32 := Scf.iv v1809 c1_i32_1197 k3_t248
  let v1840 : Index := Scalar.indexCast arg13
  let c112 : Index := 112#32
  ![v1840.toNat, 112]

def k3_chk28_0 (i : grid3.Coords) (v562 : BitVec 32) (v568 : BitVec 32) : Prop :=
  (∀ (k3_h28 : k3_cond28 i v562 v568 = 1#1), (k3_t55_loop i v562 v568).OK) ∧
  (∀ k3_t55 : Fin (k3_t55_loop i v562 v568).trips, ∀ (k3_h28 : k3_cond28 i v562 v568 = 1#1), ∀ a, (k3_off218 i v562 v568 k3_t55) a + S1x16.size a ≤ S256x128.size a) ∧
  (∀ k3_t55 : Fin (k3_t55_loop i v562 v568).trips, ∀ (k3_h28 : k3_cond28 i v562 v568 = 1#1), ∀ a, (k3_off219 i v562 v568 k3_t55) a + S1x16.size a ≤ S256x128.size a) ∧
  (∀ k3_t55 : Fin (k3_t55_loop i v562 v568).trips, ∀ (k3_h28 : k3_cond28 i v562 v568 = 1#1), ∀ a, (k3_off220 i v562 v568 k3_t55) a + S1x16.size a ≤ S256x128.size a) ∧
  (∀ k3_t55 : Fin (k3_t55_loop i v562 v568).trips, ∀ (k3_h28 : k3_cond28 i v562 v568 = 1#1), ∀ a, (k3_off221 i v562 v568 k3_t55) a + S1x16.size a ≤ S256x128.size a) ∧
  (∀ (k3_h28 : k3_cond28 i v562 v568 = 1#1), (k3_t56_loop i v562 v568).OK) ∧
  (∀ k3_t56 : Fin (k3_t56_loop i v562 v568).trips, ∀ (k3_h28 : k3_cond28 i v562 v568 = 1#1), ∀ a, (k3_off222 i v562 v568 k3_t56) a + S1x16.size a ≤ S256x128.size a) ∧
  (∀ k3_t56 : Fin (k3_t56_loop i v562 v568).trips, ∀ (k3_h28 : k3_cond28 i v562 v568 = 1#1), ∀ a, (k3_off223 i v562 v568 k3_t56) a + S1x16.size a ≤ S256x128.size a) ∧
  (∀ k3_t56 : Fin (k3_t56_loop i v562 v568).trips, ∀ (k3_h28 : k3_cond28 i v562 v568 = 1#1), ∀ a, (k3_off224 i v562 v568 k3_t56) a + S1x16.size a ≤ S256x128.size a) ∧
  (∀ k3_t56 : Fin (k3_t56_loop i v562 v568).trips, ∀ (k3_h28 : k3_cond28 i v562 v568 = 1#1), ∀ a, (k3_off225 i v562 v568 k3_t56) a + S1x16.size a ≤ S256x128.size a) ∧
  (∀ (k3_h60 : k3_cond60 i v562 v568 = 1#1), (k3_t119_loop i v562 v568).OK) ∧
  (∀ k3_t119 : Fin (k3_t119_loop i v562 v568).trips, ∀ (k3_h60 : k3_cond60 i v562 v568 = 1#1), ∀ a, (k3_off475 i v562 v568 k3_t119) a + S1x16.size a ≤ S256x128.size a) ∧
  (∀ k3_t119 : Fin (k3_t119_loop i v562 v568).trips, ∀ (k3_h60 : k3_cond60 i v562 v568 = 1#1), ∀ a, (k3_off476 i v562 v568 k3_t119) a + S1x16.size a ≤ S256x128.size a) ∧
  (∀ k3_t119 : Fin (k3_t119_loop i v562 v568).trips, ∀ (k3_h60 : k3_cond60 i v562 v568 = 1#1), ∀ a, (k3_off477 i v562 v568 k3_t119) a + S1x16.size a ≤ S256x128.size a) ∧
  (∀ k3_t119 : Fin (k3_t119_loop i v562 v568).trips, ∀ (k3_h60 : k3_cond60 i v562 v568 = 1#1), ∀ a, (k3_off478 i v562 v568 k3_t119) a + S1x16.size a ≤ S256x128.size a) ∧
  (∀ (k3_h60 : k3_cond60 i v562 v568 = 1#1), (k3_t120_loop i v562 v568).OK) ∧
  (∀ k3_t120 : Fin (k3_t120_loop i v562 v568).trips, ∀ (k3_h60 : k3_cond60 i v562 v568 = 1#1), ∀ a, (k3_off479 i v562 v568 k3_t120) a + S1x16.size a ≤ S256x128.size a) ∧
  (∀ k3_t120 : Fin (k3_t120_loop i v562 v568).trips, ∀ (k3_h60 : k3_cond60 i v562 v568 = 1#1), ∀ a, (k3_off480 i v562 v568 k3_t120) a + S1x16.size a ≤ S256x128.size a) ∧
  (∀ k3_t120 : Fin (k3_t120_loop i v562 v568).trips, ∀ (k3_h60 : k3_cond60 i v562 v568 = 1#1), ∀ a, (k3_off481 i v562 v568 k3_t120) a + S1x16.size a ≤ S256x128.size a) ∧
  (∀ k3_t120 : Fin (k3_t120_loop i v562 v568).trips, ∀ (k3_h60 : k3_cond60 i v562 v568 = 1#1), ∀ a, (k3_off482 i v562 v568 k3_t120) a + S1x16.size a ≤ S256x128.size a) ∧
  (∀ (k3_h92 : k3_cond92 i v562 v568 = 1#1), (k3_t183_loop i v562 v568).OK) ∧
  (∀ k3_t183 : Fin (k3_t183_loop i v562 v568).trips, ∀ (k3_h92 : k3_cond92 i v562 v568 = 1#1), ∀ a, (k3_off731 i v562 v568 k3_t183) a + S1x16.size a ≤ S256x128.size a) ∧
  (∀ k3_t183 : Fin (k3_t183_loop i v562 v568).trips, ∀ (k3_h92 : k3_cond92 i v562 v568 = 1#1), ∀ a, (k3_off732 i v562 v568 k3_t183) a + S1x16.size a ≤ S256x128.size a) ∧
  (∀ k3_t183 : Fin (k3_t183_loop i v562 v568).trips, ∀ (k3_h92 : k3_cond92 i v562 v568 = 1#1), ∀ a, (k3_off733 i v562 v568 k3_t183) a + S1x16.size a ≤ S256x128.size a) ∧
  (∀ k3_t183 : Fin (k3_t183_loop i v562 v568).trips, ∀ (k3_h92 : k3_cond92 i v562 v568 = 1#1), ∀ a, (k3_off734 i v562 v568 k3_t183) a + S1x16.size a ≤ S256x128.size a) ∧
  (∀ (k3_h92 : k3_cond92 i v562 v568 = 1#1), (k3_t184_loop i v562 v568).OK) ∧
  (∀ k3_t184 : Fin (k3_t184_loop i v562 v568).trips, ∀ (k3_h92 : k3_cond92 i v562 v568 = 1#1), ∀ a, (k3_off735 i v562 v568 k3_t184) a + S1x16.size a ≤ S256x128.size a) ∧
  (∀ k3_t184 : Fin (k3_t184_loop i v562 v568).trips, ∀ (k3_h92 : k3_cond92 i v562 v568 = 1#1), ∀ a, (k3_off736 i v562 v568 k3_t184) a + S1x16.size a ≤ S256x128.size a) ∧
  (∀ k3_t184 : Fin (k3_t184_loop i v562 v568).trips, ∀ (k3_h92 : k3_cond92 i v562 v568 = 1#1), ∀ a, (k3_off737 i v562 v568 k3_t184) a + S1x16.size a ≤ S256x128.size a) ∧
  (∀ k3_t184 : Fin (k3_t184_loop i v562 v568).trips, ∀ (k3_h92 : k3_cond92 i v562 v568 = 1#1), ∀ a, (k3_off738 i v562 v568 k3_t184) a + S1x16.size a ≤ S256x128.size a) ∧
  (∀ (k3_h124 : k3_cond124 i v562 v568 = 1#1), (k3_t247_loop i v562 v568).OK) ∧
  (∀ k3_t247 : Fin (k3_t247_loop i v562 v568).trips, ∀ (k3_h124 : k3_cond124 i v562 v568 = 1#1), ∀ a, (k3_off987 i v562 v568 k3_t247) a + S1x16.size a ≤ S256x128.size a)
def k3_chk28_1 (i : grid3.Coords) (v562 : BitVec 32) (v568 : BitVec 32) : Prop :=
  (∀ k3_t247 : Fin (k3_t247_loop i v562 v568).trips, ∀ (k3_h124 : k3_cond124 i v562 v568 = 1#1), ∀ a, (k3_off988 i v562 v568 k3_t247) a + S1x16.size a ≤ S256x128.size a) ∧
  (∀ k3_t247 : Fin (k3_t247_loop i v562 v568).trips, ∀ (k3_h124 : k3_cond124 i v562 v568 = 1#1), ∀ a, (k3_off989 i v562 v568 k3_t247) a + S1x16.size a ≤ S256x128.size a) ∧
  (∀ k3_t247 : Fin (k3_t247_loop i v562 v568).trips, ∀ (k3_h124 : k3_cond124 i v562 v568 = 1#1), ∀ a, (k3_off990 i v562 v568 k3_t247) a + S1x16.size a ≤ S256x128.size a) ∧
  (∀ (k3_h124 : k3_cond124 i v562 v568 = 1#1), (k3_t248_loop i v562 v568).OK) ∧
  (∀ k3_t248 : Fin (k3_t248_loop i v562 v568).trips, ∀ (k3_h124 : k3_cond124 i v562 v568 = 1#1), ∀ a, (k3_off991 i v562 v568 k3_t248) a + S1x16.size a ≤ S256x128.size a) ∧
  (∀ k3_t248 : Fin (k3_t248_loop i v562 v568).trips, ∀ (k3_h124 : k3_cond124 i v562 v568 = 1#1), ∀ a, (k3_off992 i v562 v568 k3_t248) a + S1x16.size a ≤ S256x128.size a) ∧
  (∀ k3_t248 : Fin (k3_t248_loop i v562 v568).trips, ∀ (k3_h124 : k3_cond124 i v562 v568 = 1#1), ∀ a, (k3_off993 i v562 v568 k3_t248) a + S1x16.size a ≤ S256x128.size a) ∧
  (∀ k3_t248 : Fin (k3_t248_loop i v562 v568).trips, ∀ (k3_h124 : k3_cond124 i v562 v568 = 1#1), ∀ a, (k3_off994 i v562 v568 k3_t248) a + S1x16.size a ≤ S256x128.size a)
def k3_chk28 (i : grid3.Coords) (v562 : BitVec 32) (v568 : BitVec 32) : Prop :=
  k3_chk28_0 i v562 v568 ∧
  k3_chk28_1 i v562 v568
theorem k3_t55_ok : ∀ (i : grid3.Coords) (v562 : BitVec 32) (v568 : BitVec 32) (k3_hw28 : k3_chk28 i v562 v568), ∀ (k3_h28 : k3_cond28 i v562 v568 = 1#1), (k3_t55_loop i v562 v568).OK := fun i v562 v568 k3_hw28 k3_h28 => k3_hw28.1.1 k3_h28
theorem k3_off218_inb : ∀ (i : grid3.Coords) (v562 : BitVec 32) (v568 : BitVec 32) (k3_hw28 : k3_chk28 i v562 v568) (k3_t55 : Fin (k3_t55_loop i v562 v568).trips), ∀ (k3_h28 : k3_cond28 i v562 v568 = 1#1), ∀ a, (k3_off218 i v562 v568 k3_t55) a + S1x16.size a ≤ S256x128.size a := fun i v562 v568 k3_hw28 k3_t55 k3_h28 => k3_hw28.1.2.1 k3_t55 k3_h28
theorem k3_off219_inb : ∀ (i : grid3.Coords) (v562 : BitVec 32) (v568 : BitVec 32) (k3_hw28 : k3_chk28 i v562 v568) (k3_t55 : Fin (k3_t55_loop i v562 v568).trips), ∀ (k3_h28 : k3_cond28 i v562 v568 = 1#1), ∀ a, (k3_off219 i v562 v568 k3_t55) a + S1x16.size a ≤ S256x128.size a := fun i v562 v568 k3_hw28 k3_t55 k3_h28 => k3_hw28.1.2.2.1 k3_t55 k3_h28
theorem k3_off220_inb : ∀ (i : grid3.Coords) (v562 : BitVec 32) (v568 : BitVec 32) (k3_hw28 : k3_chk28 i v562 v568) (k3_t55 : Fin (k3_t55_loop i v562 v568).trips), ∀ (k3_h28 : k3_cond28 i v562 v568 = 1#1), ∀ a, (k3_off220 i v562 v568 k3_t55) a + S1x16.size a ≤ S256x128.size a := fun i v562 v568 k3_hw28 k3_t55 k3_h28 => k3_hw28.1.2.2.2.1 k3_t55 k3_h28
theorem k3_off221_inb : ∀ (i : grid3.Coords) (v562 : BitVec 32) (v568 : BitVec 32) (k3_hw28 : k3_chk28 i v562 v568) (k3_t55 : Fin (k3_t55_loop i v562 v568).trips), ∀ (k3_h28 : k3_cond28 i v562 v568 = 1#1), ∀ a, (k3_off221 i v562 v568 k3_t55) a + S1x16.size a ≤ S256x128.size a := fun i v562 v568 k3_hw28 k3_t55 k3_h28 => k3_hw28.1.2.2.2.2.1 k3_t55 k3_h28
theorem k3_t56_ok : ∀ (i : grid3.Coords) (v562 : BitVec 32) (v568 : BitVec 32) (k3_hw28 : k3_chk28 i v562 v568), ∀ (k3_h28 : k3_cond28 i v562 v568 = 1#1), (k3_t56_loop i v562 v568).OK := fun i v562 v568 k3_hw28 k3_h28 => k3_hw28.1.2.2.2.2.2.1 k3_h28
theorem k3_off222_inb : ∀ (i : grid3.Coords) (v562 : BitVec 32) (v568 : BitVec 32) (k3_hw28 : k3_chk28 i v562 v568) (k3_t56 : Fin (k3_t56_loop i v562 v568).trips), ∀ (k3_h28 : k3_cond28 i v562 v568 = 1#1), ∀ a, (k3_off222 i v562 v568 k3_t56) a + S1x16.size a ≤ S256x128.size a := fun i v562 v568 k3_hw28 k3_t56 k3_h28 => k3_hw28.1.2.2.2.2.2.2.1 k3_t56 k3_h28
theorem k3_off223_inb : ∀ (i : grid3.Coords) (v562 : BitVec 32) (v568 : BitVec 32) (k3_hw28 : k3_chk28 i v562 v568) (k3_t56 : Fin (k3_t56_loop i v562 v568).trips), ∀ (k3_h28 : k3_cond28 i v562 v568 = 1#1), ∀ a, (k3_off223 i v562 v568 k3_t56) a + S1x16.size a ≤ S256x128.size a := fun i v562 v568 k3_hw28 k3_t56 k3_h28 => k3_hw28.1.2.2.2.2.2.2.2.1 k3_t56 k3_h28
theorem k3_off224_inb : ∀ (i : grid3.Coords) (v562 : BitVec 32) (v568 : BitVec 32) (k3_hw28 : k3_chk28 i v562 v568) (k3_t56 : Fin (k3_t56_loop i v562 v568).trips), ∀ (k3_h28 : k3_cond28 i v562 v568 = 1#1), ∀ a, (k3_off224 i v562 v568 k3_t56) a + S1x16.size a ≤ S256x128.size a := fun i v562 v568 k3_hw28 k3_t56 k3_h28 => k3_hw28.1.2.2.2.2.2.2.2.2.1 k3_t56 k3_h28
theorem k3_off225_inb : ∀ (i : grid3.Coords) (v562 : BitVec 32) (v568 : BitVec 32) (k3_hw28 : k3_chk28 i v562 v568) (k3_t56 : Fin (k3_t56_loop i v562 v568).trips), ∀ (k3_h28 : k3_cond28 i v562 v568 = 1#1), ∀ a, (k3_off225 i v562 v568 k3_t56) a + S1x16.size a ≤ S256x128.size a := fun i v562 v568 k3_hw28 k3_t56 k3_h28 => k3_hw28.1.2.2.2.2.2.2.2.2.2.1 k3_t56 k3_h28
theorem k3_t119_ok : ∀ (i : grid3.Coords) (v562 : BitVec 32) (v568 : BitVec 32) (k3_hw28 : k3_chk28 i v562 v568), ∀ (k3_h60 : k3_cond60 i v562 v568 = 1#1), (k3_t119_loop i v562 v568).OK := fun i v562 v568 k3_hw28 k3_h60 => k3_hw28.1.2.2.2.2.2.2.2.2.2.2.1 k3_h60
theorem k3_off475_inb : ∀ (i : grid3.Coords) (v562 : BitVec 32) (v568 : BitVec 32) (k3_hw28 : k3_chk28 i v562 v568) (k3_t119 : Fin (k3_t119_loop i v562 v568).trips), ∀ (k3_h60 : k3_cond60 i v562 v568 = 1#1), ∀ a, (k3_off475 i v562 v568 k3_t119) a + S1x16.size a ≤ S256x128.size a := fun i v562 v568 k3_hw28 k3_t119 k3_h60 => k3_hw28.1.2.2.2.2.2.2.2.2.2.2.2.1 k3_t119 k3_h60
theorem k3_off476_inb : ∀ (i : grid3.Coords) (v562 : BitVec 32) (v568 : BitVec 32) (k3_hw28 : k3_chk28 i v562 v568) (k3_t119 : Fin (k3_t119_loop i v562 v568).trips), ∀ (k3_h60 : k3_cond60 i v562 v568 = 1#1), ∀ a, (k3_off476 i v562 v568 k3_t119) a + S1x16.size a ≤ S256x128.size a := fun i v562 v568 k3_hw28 k3_t119 k3_h60 => k3_hw28.1.2.2.2.2.2.2.2.2.2.2.2.2.1 k3_t119 k3_h60
theorem k3_off477_inb : ∀ (i : grid3.Coords) (v562 : BitVec 32) (v568 : BitVec 32) (k3_hw28 : k3_chk28 i v562 v568) (k3_t119 : Fin (k3_t119_loop i v562 v568).trips), ∀ (k3_h60 : k3_cond60 i v562 v568 = 1#1), ∀ a, (k3_off477 i v562 v568 k3_t119) a + S1x16.size a ≤ S256x128.size a := fun i v562 v568 k3_hw28 k3_t119 k3_h60 => k3_hw28.1.2.2.2.2.2.2.2.2.2.2.2.2.2.1 k3_t119 k3_h60
theorem k3_off478_inb : ∀ (i : grid3.Coords) (v562 : BitVec 32) (v568 : BitVec 32) (k3_hw28 : k3_chk28 i v562 v568) (k3_t119 : Fin (k3_t119_loop i v562 v568).trips), ∀ (k3_h60 : k3_cond60 i v562 v568 = 1#1), ∀ a, (k3_off478 i v562 v568 k3_t119) a + S1x16.size a ≤ S256x128.size a := fun i v562 v568 k3_hw28 k3_t119 k3_h60 => k3_hw28.1.2.2.2.2.2.2.2.2.2.2.2.2.2.2.1 k3_t119 k3_h60
theorem k3_t120_ok : ∀ (i : grid3.Coords) (v562 : BitVec 32) (v568 : BitVec 32) (k3_hw28 : k3_chk28 i v562 v568), ∀ (k3_h60 : k3_cond60 i v562 v568 = 1#1), (k3_t120_loop i v562 v568).OK := fun i v562 v568 k3_hw28 k3_h60 => k3_hw28.1.2.2.2.2.2.2.2.2.2.2.2.2.2.2.2.1 k3_h60
theorem k3_off479_inb : ∀ (i : grid3.Coords) (v562 : BitVec 32) (v568 : BitVec 32) (k3_hw28 : k3_chk28 i v562 v568) (k3_t120 : Fin (k3_t120_loop i v562 v568).trips), ∀ (k3_h60 : k3_cond60 i v562 v568 = 1#1), ∀ a, (k3_off479 i v562 v568 k3_t120) a + S1x16.size a ≤ S256x128.size a := fun i v562 v568 k3_hw28 k3_t120 k3_h60 => k3_hw28.1.2.2.2.2.2.2.2.2.2.2.2.2.2.2.2.2.1 k3_t120 k3_h60
theorem k3_off480_inb : ∀ (i : grid3.Coords) (v562 : BitVec 32) (v568 : BitVec 32) (k3_hw28 : k3_chk28 i v562 v568) (k3_t120 : Fin (k3_t120_loop i v562 v568).trips), ∀ (k3_h60 : k3_cond60 i v562 v568 = 1#1), ∀ a, (k3_off480 i v562 v568 k3_t120) a + S1x16.size a ≤ S256x128.size a := fun i v562 v568 k3_hw28 k3_t120 k3_h60 => k3_hw28.1.2.2.2.2.2.2.2.2.2.2.2.2.2.2.2.2.2.1 k3_t120 k3_h60
theorem k3_off481_inb : ∀ (i : grid3.Coords) (v562 : BitVec 32) (v568 : BitVec 32) (k3_hw28 : k3_chk28 i v562 v568) (k3_t120 : Fin (k3_t120_loop i v562 v568).trips), ∀ (k3_h60 : k3_cond60 i v562 v568 = 1#1), ∀ a, (k3_off481 i v562 v568 k3_t120) a + S1x16.size a ≤ S256x128.size a := fun i v562 v568 k3_hw28 k3_t120 k3_h60 => k3_hw28.1.2.2.2.2.2.2.2.2.2.2.2.2.2.2.2.2.2.2.1 k3_t120 k3_h60
theorem k3_off482_inb : ∀ (i : grid3.Coords) (v562 : BitVec 32) (v568 : BitVec 32) (k3_hw28 : k3_chk28 i v562 v568) (k3_t120 : Fin (k3_t120_loop i v562 v568).trips), ∀ (k3_h60 : k3_cond60 i v562 v568 = 1#1), ∀ a, (k3_off482 i v562 v568 k3_t120) a + S1x16.size a ≤ S256x128.size a := fun i v562 v568 k3_hw28 k3_t120 k3_h60 => k3_hw28.1.2.2.2.2.2.2.2.2.2.2.2.2.2.2.2.2.2.2.2.1 k3_t120 k3_h60
theorem k3_t183_ok : ∀ (i : grid3.Coords) (v562 : BitVec 32) (v568 : BitVec 32) (k3_hw28 : k3_chk28 i v562 v568), ∀ (k3_h92 : k3_cond92 i v562 v568 = 1#1), (k3_t183_loop i v562 v568).OK := fun i v562 v568 k3_hw28 k3_h92 => k3_hw28.1.2.2.2.2.2.2.2.2.2.2.2.2.2.2.2.2.2.2.2.2.1 k3_h92
theorem k3_off731_inb : ∀ (i : grid3.Coords) (v562 : BitVec 32) (v568 : BitVec 32) (k3_hw28 : k3_chk28 i v562 v568) (k3_t183 : Fin (k3_t183_loop i v562 v568).trips), ∀ (k3_h92 : k3_cond92 i v562 v568 = 1#1), ∀ a, (k3_off731 i v562 v568 k3_t183) a + S1x16.size a ≤ S256x128.size a := fun i v562 v568 k3_hw28 k3_t183 k3_h92 => k3_hw28.1.2.2.2.2.2.2.2.2.2.2.2.2.2.2.2.2.2.2.2.2.2.1 k3_t183 k3_h92
theorem k3_off732_inb : ∀ (i : grid3.Coords) (v562 : BitVec 32) (v568 : BitVec 32) (k3_hw28 : k3_chk28 i v562 v568) (k3_t183 : Fin (k3_t183_loop i v562 v568).trips), ∀ (k3_h92 : k3_cond92 i v562 v568 = 1#1), ∀ a, (k3_off732 i v562 v568 k3_t183) a + S1x16.size a ≤ S256x128.size a := fun i v562 v568 k3_hw28 k3_t183 k3_h92 => k3_hw28.1.2.2.2.2.2.2.2.2.2.2.2.2.2.2.2.2.2.2.2.2.2.2.1 k3_t183 k3_h92
theorem k3_off733_inb : ∀ (i : grid3.Coords) (v562 : BitVec 32) (v568 : BitVec 32) (k3_hw28 : k3_chk28 i v562 v568) (k3_t183 : Fin (k3_t183_loop i v562 v568).trips), ∀ (k3_h92 : k3_cond92 i v562 v568 = 1#1), ∀ a, (k3_off733 i v562 v568 k3_t183) a + S1x16.size a ≤ S256x128.size a := fun i v562 v568 k3_hw28 k3_t183 k3_h92 => k3_hw28.1.2.2.2.2.2.2.2.2.2.2.2.2.2.2.2.2.2.2.2.2.2.2.2.1 k3_t183 k3_h92
theorem k3_off734_inb : ∀ (i : grid3.Coords) (v562 : BitVec 32) (v568 : BitVec 32) (k3_hw28 : k3_chk28 i v562 v568) (k3_t183 : Fin (k3_t183_loop i v562 v568).trips), ∀ (k3_h92 : k3_cond92 i v562 v568 = 1#1), ∀ a, (k3_off734 i v562 v568 k3_t183) a + S1x16.size a ≤ S256x128.size a := fun i v562 v568 k3_hw28 k3_t183 k3_h92 => k3_hw28.1.2.2.2.2.2.2.2.2.2.2.2.2.2.2.2.2.2.2.2.2.2.2.2.2.1 k3_t183 k3_h92
theorem k3_t184_ok : ∀ (i : grid3.Coords) (v562 : BitVec 32) (v568 : BitVec 32) (k3_hw28 : k3_chk28 i v562 v568), ∀ (k3_h92 : k3_cond92 i v562 v568 = 1#1), (k3_t184_loop i v562 v568).OK := fun i v562 v568 k3_hw28 k3_h92 => k3_hw28.1.2.2.2.2.2.2.2.2.2.2.2.2.2.2.2.2.2.2.2.2.2.2.2.2.2.1 k3_h92
theorem k3_off735_inb : ∀ (i : grid3.Coords) (v562 : BitVec 32) (v568 : BitVec 32) (k3_hw28 : k3_chk28 i v562 v568) (k3_t184 : Fin (k3_t184_loop i v562 v568).trips), ∀ (k3_h92 : k3_cond92 i v562 v568 = 1#1), ∀ a, (k3_off735 i v562 v568 k3_t184) a + S1x16.size a ≤ S256x128.size a := fun i v562 v568 k3_hw28 k3_t184 k3_h92 => k3_hw28.1.2.2.2.2.2.2.2.2.2.2.2.2.2.2.2.2.2.2.2.2.2.2.2.2.2.2.1 k3_t184 k3_h92
theorem k3_off736_inb : ∀ (i : grid3.Coords) (v562 : BitVec 32) (v568 : BitVec 32) (k3_hw28 : k3_chk28 i v562 v568) (k3_t184 : Fin (k3_t184_loop i v562 v568).trips), ∀ (k3_h92 : k3_cond92 i v562 v568 = 1#1), ∀ a, (k3_off736 i v562 v568 k3_t184) a + S1x16.size a ≤ S256x128.size a := fun i v562 v568 k3_hw28 k3_t184 k3_h92 => k3_hw28.1.2.2.2.2.2.2.2.2.2.2.2.2.2.2.2.2.2.2.2.2.2.2.2.2.2.2.2.1 k3_t184 k3_h92
theorem k3_off737_inb : ∀ (i : grid3.Coords) (v562 : BitVec 32) (v568 : BitVec 32) (k3_hw28 : k3_chk28 i v562 v568) (k3_t184 : Fin (k3_t184_loop i v562 v568).trips), ∀ (k3_h92 : k3_cond92 i v562 v568 = 1#1), ∀ a, (k3_off737 i v562 v568 k3_t184) a + S1x16.size a ≤ S256x128.size a := fun i v562 v568 k3_hw28 k3_t184 k3_h92 => k3_hw28.1.2.2.2.2.2.2.2.2.2.2.2.2.2.2.2.2.2.2.2.2.2.2.2.2.2.2.2.2.1 k3_t184 k3_h92
theorem k3_off738_inb : ∀ (i : grid3.Coords) (v562 : BitVec 32) (v568 : BitVec 32) (k3_hw28 : k3_chk28 i v562 v568) (k3_t184 : Fin (k3_t184_loop i v562 v568).trips), ∀ (k3_h92 : k3_cond92 i v562 v568 = 1#1), ∀ a, (k3_off738 i v562 v568 k3_t184) a + S1x16.size a ≤ S256x128.size a := fun i v562 v568 k3_hw28 k3_t184 k3_h92 => k3_hw28.1.2.2.2.2.2.2.2.2.2.2.2.2.2.2.2.2.2.2.2.2.2.2.2.2.2.2.2.2.2.1 k3_t184 k3_h92
theorem k3_t247_ok : ∀ (i : grid3.Coords) (v562 : BitVec 32) (v568 : BitVec 32) (k3_hw28 : k3_chk28 i v562 v568), ∀ (k3_h124 : k3_cond124 i v562 v568 = 1#1), (k3_t247_loop i v562 v568).OK := fun i v562 v568 k3_hw28 k3_h124 => k3_hw28.1.2.2.2.2.2.2.2.2.2.2.2.2.2.2.2.2.2.2.2.2.2.2.2.2.2.2.2.2.2.2.1 k3_h124
theorem k3_off987_inb : ∀ (i : grid3.Coords) (v562 : BitVec 32) (v568 : BitVec 32) (k3_hw28 : k3_chk28 i v562 v568) (k3_t247 : Fin (k3_t247_loop i v562 v568).trips), ∀ (k3_h124 : k3_cond124 i v562 v568 = 1#1), ∀ a, (k3_off987 i v562 v568 k3_t247) a + S1x16.size a ≤ S256x128.size a := fun i v562 v568 k3_hw28 k3_t247 k3_h124 => k3_hw28.1.2.2.2.2.2.2.2.2.2.2.2.2.2.2.2.2.2.2.2.2.2.2.2.2.2.2.2.2.2.2.2 k3_t247 k3_h124
theorem k3_off988_inb : ∀ (i : grid3.Coords) (v562 : BitVec 32) (v568 : BitVec 32) (k3_hw28 : k3_chk28 i v562 v568) (k3_t247 : Fin (k3_t247_loop i v562 v568).trips), ∀ (k3_h124 : k3_cond124 i v562 v568 = 1#1), ∀ a, (k3_off988 i v562 v568 k3_t247) a + S1x16.size a ≤ S256x128.size a := fun i v562 v568 k3_hw28 k3_t247 k3_h124 => k3_hw28.2.1 k3_t247 k3_h124
theorem k3_off989_inb : ∀ (i : grid3.Coords) (v562 : BitVec 32) (v568 : BitVec 32) (k3_hw28 : k3_chk28 i v562 v568) (k3_t247 : Fin (k3_t247_loop i v562 v568).trips), ∀ (k3_h124 : k3_cond124 i v562 v568 = 1#1), ∀ a, (k3_off989 i v562 v568 k3_t247) a + S1x16.size a ≤ S256x128.size a := fun i v562 v568 k3_hw28 k3_t247 k3_h124 => k3_hw28.2.2.1 k3_t247 k3_h124
theorem k3_off990_inb : ∀ (i : grid3.Coords) (v562 : BitVec 32) (v568 : BitVec 32) (k3_hw28 : k3_chk28 i v562 v568) (k3_t247 : Fin (k3_t247_loop i v562 v568).trips), ∀ (k3_h124 : k3_cond124 i v562 v568 = 1#1), ∀ a, (k3_off990 i v562 v568 k3_t247) a + S1x16.size a ≤ S256x128.size a := fun i v562 v568 k3_hw28 k3_t247 k3_h124 => k3_hw28.2.2.2.1 k3_t247 k3_h124
theorem k3_t248_ok : ∀ (i : grid3.Coords) (v562 : BitVec 32) (v568 : BitVec 32) (k3_hw28 : k3_chk28 i v562 v568), ∀ (k3_h124 : k3_cond124 i v562 v568 = 1#1), (k3_t248_loop i v562 v568).OK := fun i v562 v568 k3_hw28 k3_h124 => k3_hw28.2.2.2.2.1 k3_h124
theorem k3_off991_inb : ∀ (i : grid3.Coords) (v562 : BitVec 32) (v568 : BitVec 32) (k3_hw28 : k3_chk28 i v562 v568) (k3_t248 : Fin (k3_t248_loop i v562 v568).trips), ∀ (k3_h124 : k3_cond124 i v562 v568 = 1#1), ∀ a, (k3_off991 i v562 v568 k3_t248) a + S1x16.size a ≤ S256x128.size a := fun i v562 v568 k3_hw28 k3_t248 k3_h124 => k3_hw28.2.2.2.2.2.1 k3_t248 k3_h124
theorem k3_off992_inb : ∀ (i : grid3.Coords) (v562 : BitVec 32) (v568 : BitVec 32) (k3_hw28 : k3_chk28 i v562 v568) (k3_t248 : Fin (k3_t248_loop i v562 v568).trips), ∀ (k3_h124 : k3_cond124 i v562 v568 = 1#1), ∀ a, (k3_off992 i v562 v568 k3_t248) a + S1x16.size a ≤ S256x128.size a := fun i v562 v568 k3_hw28 k3_t248 k3_h124 => k3_hw28.2.2.2.2.2.2.1 k3_t248 k3_h124
theorem k3_off993_inb : ∀ (i : grid3.Coords) (v562 : BitVec 32) (v568 : BitVec 32) (k3_hw28 : k3_chk28 i v562 v568) (k3_t248 : Fin (k3_t248_loop i v562 v568).trips), ∀ (k3_h124 : k3_cond124 i v562 v568 = 1#1), ∀ a, (k3_off993 i v562 v568 k3_t248) a + S1x16.size a ≤ S256x128.size a := fun i v562 v568 k3_hw28 k3_t248 k3_h124 => k3_hw28.2.2.2.2.2.2.2.1 k3_t248 k3_h124
theorem k3_off994_inb : ∀ (i : grid3.Coords) (v562 : BitVec 32) (v568 : BitVec 32) (k3_hw28 : k3_chk28 i v562 v568) (k3_t248 : Fin (k3_t248_loop i v562 v568).trips), ∀ (k3_h124 : k3_cond124 i v562 v568 = 1#1), ∀ a, (k3_off994 i v562 v568 k3_t248) a + S1x16.size a ≤ S256x128.size a := fun i v562 v568 k3_hw28 k3_t248 k3_h124 => k3_hw28.2.2.2.2.2.2.2.2 k3_t248 k3_h124

@[reducible] def k3_t249_loop (i : grid3.Coords) (v574 : BitVec 32) (v579 : BitVec 32) : Scf.Loop 32 :=
  let c256_i32_1161 : BitVec 32 := 256#32
  let c0_i32_1160 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let c256_i32_1164 : BitVec 32 := 256#32
  let c0_i32_1163 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c768_i32_1162 : BitVec 32 := 768#32
  let v1760 : BitVec 32 := Scalar.subi v582 c768_i32_1162
  let v1761 : BitVec 32 := Scalar.maxsi c0_i32_1163 v1760
  let v1762 : BitVec 32 := Scalar.minsi c256_i32_1164 v1761
  let v1805 : BitVec 32 := Scalar.subi v1762 v1759
  let c1_i32_1195 : BitVec 32 := 1#32
  let v1807 : BitVec 32 := Scalar.divsi v1805 c1_i32_1195
  let v1808 : BitVec 32 := Scalar.muli v1807 c1_i32_1195
  let v1809 : BitVec 32 := Scalar.addi v1759 v1808
  let c1_i32_1196 : BitVec 32 := 1#32
  ⟨v1759, v1809, c1_i32_1196⟩
def k3_cond125 (i : grid3.Coords) (v574 : BitVec 32) (v579 : BitVec 32) : BitVec 1 :=
  let c256_i32_1164 : BitVec 32 := 256#32
  let c0_i32_1163 : BitVec 32 := 0#32
  let c1024_i32_253 : BitVec 32 := 1024#32
  let c0_i32_252 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v580 : BitVec 32 := Scalar.subi v579 v3
  let v581 : BitVec 32 := Scalar.maxsi c0_i32_252 v580
  let v582 : BitVec 32 := Scalar.minsi c1024_i32_253 v581
  let c768_i32_1162 : BitVec 32 := 768#32
  let v1760 : BitVec 32 := Scalar.subi v582 c768_i32_1162
  let v1761 : BitVec 32 := Scalar.maxsi c0_i32_1163 v1760
  let v1762 : BitVec 32 := Scalar.minsi c256_i32_1164 v1761
  let c256_i32_1161 : BitVec 32 := 256#32
  let c0_i32_1160 : BitVec 32 := 0#32
  let c1024_i32_251 : BitVec 32 := 1024#32
  let c0_i32_250 : BitVec 32 := 0#32
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let v1763 : BitVec 1 := Scalar.cmpi .sgt v1762 v1759
  let v1764 : BitVec 32 := Scalar.extui v1763
  let c0_i32_1165 : BitVec 32 := 0#32
  let v1765 : BitVec 1 := Scalar.cmpi .ne v1764 c0_i32_1165
  v1765

def k3_off995 (i : grid3.Coords) (v574 : BitVec 32) (v579 : BitVec 32) (k3_t249 : Fin (k3_t249_loop i v574 v579).trips) : Fin 2 → Nat :=
  let c256_i32_1161 : BitVec 32 := 256#32
  let c0_i32_1160 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let c1_i32_1196 : BitVec 32 := 1#32
  let arg13 : BitVec 32 := Scf.iv v1759 c1_i32_1196 k3_t249
  let v1828 : Index := Scalar.indexCast arg13
  let c0_1206 : Index := 0#32
  ![v1828.toNat, 0]
def k3_off996 (i : grid3.Coords) (v574 : BitVec 32) (v579 : BitVec 32) (k3_t249 : Fin (k3_t249_loop i v574 v579).trips) : Fin 2 → Nat :=
  let c256_i32_1161 : BitVec 32 := 256#32
  let c0_i32_1160 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let c1_i32_1196 : BitVec 32 := 1#32
  let arg13 : BitVec 32 := Scf.iv v1759 c1_i32_1196 k3_t249
  let v1832 : Index := Scalar.indexCast arg13
  let c16_1207 : Index := 16#32
  ![v1832.toNat, 16]
def k3_off997 (i : grid3.Coords) (v574 : BitVec 32) (v579 : BitVec 32) (k3_t249 : Fin (k3_t249_loop i v574 v579).trips) : Fin 2 → Nat :=
  let c256_i32_1161 : BitVec 32 := 256#32
  let c0_i32_1160 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let c1_i32_1196 : BitVec 32 := 1#32
  let arg13 : BitVec 32 := Scf.iv v1759 c1_i32_1196 k3_t249
  let v1836 : Index := Scalar.indexCast arg13
  let c32_1208 : Index := 32#32
  ![v1836.toNat, 32]
def k3_off998 (i : grid3.Coords) (v574 : BitVec 32) (v579 : BitVec 32) (k3_t249 : Fin (k3_t249_loop i v574 v579).trips) : Fin 2 → Nat :=
  let c256_i32_1161 : BitVec 32 := 256#32
  let c0_i32_1160 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let c1_i32_1196 : BitVec 32 := 1#32
  let arg13 : BitVec 32 := Scf.iv v1759 c1_i32_1196 k3_t249
  let v1840 : Index := Scalar.indexCast arg13
  let c48_1209 : Index := 48#32
  ![v1840.toNat, 48]
@[reducible] def k3_t250_loop (i : grid3.Coords) (v574 : BitVec 32) (v579 : BitVec 32) : Scf.Loop 32 :=
  let c256_i32_1161 : BitVec 32 := 256#32
  let c0_i32_1160 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let c256_i32_1164 : BitVec 32 := 256#32
  let c0_i32_1163 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c768_i32_1162 : BitVec 32 := 768#32
  let v1760 : BitVec 32 := Scalar.subi v582 c768_i32_1162
  let v1761 : BitVec 32 := Scalar.maxsi c0_i32_1163 v1760
  let v1762 : BitVec 32 := Scalar.minsi c256_i32_1164 v1761
  let v1805 : BitVec 32 := Scalar.subi v1762 v1759
  let c1_i32_1195 : BitVec 32 := 1#32
  let v1807 : BitVec 32 := Scalar.divsi v1805 c1_i32_1195
  let v1808 : BitVec 32 := Scalar.muli v1807 c1_i32_1195
  let v1809 : BitVec 32 := Scalar.addi v1759 v1808
  let v1806 : BitVec 32 := Scalar.addi v1759 v1805
  let c1_i32_1197 : BitVec 32 := 1#32
  ⟨v1809, v1806, c1_i32_1197⟩
def k3_off999 (i : grid3.Coords) (v574 : BitVec 32) (v579 : BitVec 32) (k3_t250 : Fin (k3_t250_loop i v574 v579).trips) : Fin 2 → Nat :=
  let c256_i32_1161 : BitVec 32 := 256#32
  let c0_i32_1160 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let c256_i32_1164 : BitVec 32 := 256#32
  let c0_i32_1163 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c768_i32_1162 : BitVec 32 := 768#32
  let v1760 : BitVec 32 := Scalar.subi v582 c768_i32_1162
  let v1761 : BitVec 32 := Scalar.maxsi c0_i32_1163 v1760
  let v1762 : BitVec 32 := Scalar.minsi c256_i32_1164 v1761
  let v1805 : BitVec 32 := Scalar.subi v1762 v1759
  let c1_i32_1195 : BitVec 32 := 1#32
  let v1807 : BitVec 32 := Scalar.divsi v1805 c1_i32_1195
  let v1808 : BitVec 32 := Scalar.muli v1807 c1_i32_1195
  let v1809 : BitVec 32 := Scalar.addi v1759 v1808
  let c1_i32_1197 : BitVec 32 := 1#32
  let arg13 : BitVec 32 := Scf.iv v1809 c1_i32_1197 k3_t250
  let v1828 : Index := Scalar.indexCast arg13
  let c0_1206 : Index := 0#32
  ![v1828.toNat, 0]
def k3_off1000 (i : grid3.Coords) (v574 : BitVec 32) (v579 : BitVec 32) (k3_t250 : Fin (k3_t250_loop i v574 v579).trips) : Fin 2 → Nat :=
  let c256_i32_1161 : BitVec 32 := 256#32
  let c0_i32_1160 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let c256_i32_1164 : BitVec 32 := 256#32
  let c0_i32_1163 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c768_i32_1162 : BitVec 32 := 768#32
  let v1760 : BitVec 32 := Scalar.subi v582 c768_i32_1162
  let v1761 : BitVec 32 := Scalar.maxsi c0_i32_1163 v1760
  let v1762 : BitVec 32 := Scalar.minsi c256_i32_1164 v1761
  let v1805 : BitVec 32 := Scalar.subi v1762 v1759
  let c1_i32_1195 : BitVec 32 := 1#32
  let v1807 : BitVec 32 := Scalar.divsi v1805 c1_i32_1195
  let v1808 : BitVec 32 := Scalar.muli v1807 c1_i32_1195
  let v1809 : BitVec 32 := Scalar.addi v1759 v1808
  let c1_i32_1197 : BitVec 32 := 1#32
  let arg13 : BitVec 32 := Scf.iv v1809 c1_i32_1197 k3_t250
  let v1832 : Index := Scalar.indexCast arg13
  let c16_1207 : Index := 16#32
  ![v1832.toNat, 16]
def k3_off1001 (i : grid3.Coords) (v574 : BitVec 32) (v579 : BitVec 32) (k3_t250 : Fin (k3_t250_loop i v574 v579).trips) : Fin 2 → Nat :=
  let c256_i32_1161 : BitVec 32 := 256#32
  let c0_i32_1160 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let c256_i32_1164 : BitVec 32 := 256#32
  let c0_i32_1163 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c768_i32_1162 : BitVec 32 := 768#32
  let v1760 : BitVec 32 := Scalar.subi v582 c768_i32_1162
  let v1761 : BitVec 32 := Scalar.maxsi c0_i32_1163 v1760
  let v1762 : BitVec 32 := Scalar.minsi c256_i32_1164 v1761
  let v1805 : BitVec 32 := Scalar.subi v1762 v1759
  let c1_i32_1195 : BitVec 32 := 1#32
  let v1807 : BitVec 32 := Scalar.divsi v1805 c1_i32_1195
  let v1808 : BitVec 32 := Scalar.muli v1807 c1_i32_1195
  let v1809 : BitVec 32 := Scalar.addi v1759 v1808
  let c1_i32_1197 : BitVec 32 := 1#32
  let arg13 : BitVec 32 := Scf.iv v1809 c1_i32_1197 k3_t250
  let v1836 : Index := Scalar.indexCast arg13
  let c32_1208 : Index := 32#32
  ![v1836.toNat, 32]
def k3_off1002 (i : grid3.Coords) (v574 : BitVec 32) (v579 : BitVec 32) (k3_t250 : Fin (k3_t250_loop i v574 v579).trips) : Fin 2 → Nat :=
  let c256_i32_1161 : BitVec 32 := 256#32
  let c0_i32_1160 : BitVec 32 := 0#32
  let c1024_i32_251 : BitVec 32 := 1024#32
  let c0_i32_250 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v575 : BitVec 32 := Scalar.subi v574 v3
  let v576 : BitVec 32 := Scalar.maxsi c0_i32_250 v575
  let v577 : BitVec 32 := Scalar.minsi c1024_i32_251 v576
  let c768_i32_1159 : BitVec 32 := 768#32
  let v1757 : BitVec 32 := Scalar.subi v577 c768_i32_1159
  let v1758 : BitVec 32 := Scalar.maxsi c0_i32_1160 v1757
  let v1759 : BitVec 32 := Scalar.minsi c256_i32_1161 v1758
  let c256_i32_1164 : BitVec 32 := 256#32
  let c0_i32_1163 : BitVec 32 := 0#32
  let c1024_i32_253 : BitVec 32 := 1024#32
  let c0_i32_252 : BitVec 32 := 0#32
  let v580 : BitVec 32 := Scalar.subi v579 v3
  let v581 : BitVec 32 := Scalar.maxsi c0_i32_252 v580
  let v582 : BitVec 32 := Scalar.minsi c1024_i32_253 v581
  let c768_i32_1162 : BitVec 32 := 768#32
  let v1760 : BitVec 32 := Scalar.subi v582 c768_i32_1162
  let v1761 : BitVec 32 := Scalar.maxsi c0_i32_1163 v1760
  let v1762 : BitVec 32 := Scalar.minsi c256_i32_1164 v1761
  let v1805 : BitVec 32 := Scalar.subi v1762 v1759
  let c1_i32_1195 : BitVec 32 := 1#32
  let v1807 : BitVec 32 := Scalar.divsi v1805 c1_i32_1195
  let v1808 : BitVec 32 := Scalar.muli v1807 c1_i32_1195
  let v1809 : BitVec 32 := Scalar.addi v1759 v1808
  let c1_i32_1197 : BitVec 32 := 1#32
  let arg13 : BitVec 32 := Scf.iv v1809 c1_i32_1197 k3_t250
  let v1840 : Index := Scalar.indexCast arg13
  let c48_1209 : Index := 48#32
  ![v1840.toNat, 48]

def k3_chk29_0 (i : grid3.Coords) (v574 : BitVec 32) (v579 : BitVec 32) : Prop :=
  (∀ (k3_h29 : k3_cond29 i v574 v579 = 1#1), (k3_t57_loop i v574 v579).OK) ∧
  (∀ k3_t57 : Fin (k3_t57_loop i v574 v579).trips, ∀ (k3_h29 : k3_cond29 i v574 v579 = 1#1), ∀ a, (k3_off226 i v574 v579 k3_t57) a + S1x16.size a ≤ S256x128.size a) ∧
  (∀ k3_t57 : Fin (k3_t57_loop i v574 v579).trips, ∀ (k3_h29 : k3_cond29 i v574 v579 = 1#1), ∀ a, (k3_off227 i v574 v579 k3_t57) a + S1x16.size a ≤ S256x128.size a) ∧
  (∀ k3_t57 : Fin (k3_t57_loop i v574 v579).trips, ∀ (k3_h29 : k3_cond29 i v574 v579 = 1#1), ∀ a, (k3_off228 i v574 v579 k3_t57) a + S1x16.size a ≤ S256x128.size a) ∧
  (∀ k3_t57 : Fin (k3_t57_loop i v574 v579).trips, ∀ (k3_h29 : k3_cond29 i v574 v579 = 1#1), ∀ a, (k3_off229 i v574 v579 k3_t57) a + S1x16.size a ≤ S256x128.size a) ∧
  (∀ (k3_h29 : k3_cond29 i v574 v579 = 1#1), (k3_t58_loop i v574 v579).OK) ∧
  (∀ k3_t58 : Fin (k3_t58_loop i v574 v579).trips, ∀ (k3_h29 : k3_cond29 i v574 v579 = 1#1), ∀ a, (k3_off230 i v574 v579 k3_t58) a + S1x16.size a ≤ S256x128.size a) ∧
  (∀ k3_t58 : Fin (k3_t58_loop i v574 v579).trips, ∀ (k3_h29 : k3_cond29 i v574 v579 = 1#1), ∀ a, (k3_off231 i v574 v579 k3_t58) a + S1x16.size a ≤ S256x128.size a) ∧
  (∀ k3_t58 : Fin (k3_t58_loop i v574 v579).trips, ∀ (k3_h29 : k3_cond29 i v574 v579 = 1#1), ∀ a, (k3_off232 i v574 v579 k3_t58) a + S1x16.size a ≤ S256x128.size a) ∧
  (∀ k3_t58 : Fin (k3_t58_loop i v574 v579).trips, ∀ (k3_h29 : k3_cond29 i v574 v579 = 1#1), ∀ a, (k3_off233 i v574 v579 k3_t58) a + S1x16.size a ≤ S256x128.size a) ∧
  (∀ (k3_h61 : k3_cond61 i v574 v579 = 1#1), (k3_t121_loop i v574 v579).OK) ∧
  (∀ k3_t121 : Fin (k3_t121_loop i v574 v579).trips, ∀ (k3_h61 : k3_cond61 i v574 v579 = 1#1), ∀ a, (k3_off483 i v574 v579 k3_t121) a + S1x16.size a ≤ S256x128.size a) ∧
  (∀ k3_t121 : Fin (k3_t121_loop i v574 v579).trips, ∀ (k3_h61 : k3_cond61 i v574 v579 = 1#1), ∀ a, (k3_off484 i v574 v579 k3_t121) a + S1x16.size a ≤ S256x128.size a) ∧
  (∀ k3_t121 : Fin (k3_t121_loop i v574 v579).trips, ∀ (k3_h61 : k3_cond61 i v574 v579 = 1#1), ∀ a, (k3_off485 i v574 v579 k3_t121) a + S1x16.size a ≤ S256x128.size a) ∧
  (∀ k3_t121 : Fin (k3_t121_loop i v574 v579).trips, ∀ (k3_h61 : k3_cond61 i v574 v579 = 1#1), ∀ a, (k3_off486 i v574 v579 k3_t121) a + S1x16.size a ≤ S256x128.size a) ∧
  (∀ (k3_h61 : k3_cond61 i v574 v579 = 1#1), (k3_t122_loop i v574 v579).OK) ∧
  (∀ k3_t122 : Fin (k3_t122_loop i v574 v579).trips, ∀ (k3_h61 : k3_cond61 i v574 v579 = 1#1), ∀ a, (k3_off487 i v574 v579 k3_t122) a + S1x16.size a ≤ S256x128.size a) ∧
  (∀ k3_t122 : Fin (k3_t122_loop i v574 v579).trips, ∀ (k3_h61 : k3_cond61 i v574 v579 = 1#1), ∀ a, (k3_off488 i v574 v579 k3_t122) a + S1x16.size a ≤ S256x128.size a) ∧
  (∀ k3_t122 : Fin (k3_t122_loop i v574 v579).trips, ∀ (k3_h61 : k3_cond61 i v574 v579 = 1#1), ∀ a, (k3_off489 i v574 v579 k3_t122) a + S1x16.size a ≤ S256x128.size a) ∧
  (∀ k3_t122 : Fin (k3_t122_loop i v574 v579).trips, ∀ (k3_h61 : k3_cond61 i v574 v579 = 1#1), ∀ a, (k3_off490 i v574 v579 k3_t122) a + S1x16.size a ≤ S256x128.size a) ∧
  (∀ (k3_h93 : k3_cond93 i v574 v579 = 1#1), (k3_t185_loop i v574 v579).OK) ∧
  (∀ k3_t185 : Fin (k3_t185_loop i v574 v579).trips, ∀ (k3_h93 : k3_cond93 i v574 v579 = 1#1), ∀ a, (k3_off739 i v574 v579 k3_t185) a + S1x16.size a ≤ S256x128.size a) ∧
  (∀ k3_t185 : Fin (k3_t185_loop i v574 v579).trips, ∀ (k3_h93 : k3_cond93 i v574 v579 = 1#1), ∀ a, (k3_off740 i v574 v579 k3_t185) a + S1x16.size a ≤ S256x128.size a) ∧
  (∀ k3_t185 : Fin (k3_t185_loop i v574 v579).trips, ∀ (k3_h93 : k3_cond93 i v574 v579 = 1#1), ∀ a, (k3_off741 i v574 v579 k3_t185) a + S1x16.size a ≤ S256x128.size a) ∧
  (∀ k3_t185 : Fin (k3_t185_loop i v574 v579).trips, ∀ (k3_h93 : k3_cond93 i v574 v579 = 1#1), ∀ a, (k3_off742 i v574 v579 k3_t185) a + S1x16.size a ≤ S256x128.size a) ∧
  (∀ (k3_h93 : k3_cond93 i v574 v579 = 1#1), (k3_t186_loop i v574 v579).OK) ∧
  (∀ k3_t186 : Fin (k3_t186_loop i v574 v579).trips, ∀ (k3_h93 : k3_cond93 i v574 v579 = 1#1), ∀ a, (k3_off743 i v574 v579 k3_t186) a + S1x16.size a ≤ S256x128.size a) ∧
  (∀ k3_t186 : Fin (k3_t186_loop i v574 v579).trips, ∀ (k3_h93 : k3_cond93 i v574 v579 = 1#1), ∀ a, (k3_off744 i v574 v579 k3_t186) a + S1x16.size a ≤ S256x128.size a) ∧
  (∀ k3_t186 : Fin (k3_t186_loop i v574 v579).trips, ∀ (k3_h93 : k3_cond93 i v574 v579 = 1#1), ∀ a, (k3_off745 i v574 v579 k3_t186) a + S1x16.size a ≤ S256x128.size a) ∧
  (∀ k3_t186 : Fin (k3_t186_loop i v574 v579).trips, ∀ (k3_h93 : k3_cond93 i v574 v579 = 1#1), ∀ a, (k3_off746 i v574 v579 k3_t186) a + S1x16.size a ≤ S256x128.size a) ∧
  (∀ (k3_h125 : k3_cond125 i v574 v579 = 1#1), (k3_t249_loop i v574 v579).OK) ∧
  (∀ k3_t249 : Fin (k3_t249_loop i v574 v579).trips, ∀ (k3_h125 : k3_cond125 i v574 v579 = 1#1), ∀ a, (k3_off995 i v574 v579 k3_t249) a + S1x16.size a ≤ S256x128.size a)
def k3_chk29_1 (i : grid3.Coords) (v574 : BitVec 32) (v579 : BitVec 32) : Prop :=
  (∀ k3_t249 : Fin (k3_t249_loop i v574 v579).trips, ∀ (k3_h125 : k3_cond125 i v574 v579 = 1#1), ∀ a, (k3_off996 i v574 v579 k3_t249) a + S1x16.size a ≤ S256x128.size a) ∧
  (∀ k3_t249 : Fin (k3_t249_loop i v574 v579).trips, ∀ (k3_h125 : k3_cond125 i v574 v579 = 1#1), ∀ a, (k3_off997 i v574 v579 k3_t249) a + S1x16.size a ≤ S256x128.size a) ∧
  (∀ k3_t249 : Fin (k3_t249_loop i v574 v579).trips, ∀ (k3_h125 : k3_cond125 i v574 v579 = 1#1), ∀ a, (k3_off998 i v574 v579 k3_t249) a + S1x16.size a ≤ S256x128.size a) ∧
  (∀ (k3_h125 : k3_cond125 i v574 v579 = 1#1), (k3_t250_loop i v574 v579).OK) ∧
  (∀ k3_t250 : Fin (k3_t250_loop i v574 v579).trips, ∀ (k3_h125 : k3_cond125 i v574 v579 = 1#1), ∀ a, (k3_off999 i v574 v579 k3_t250) a + S1x16.size a ≤ S256x128.size a) ∧
  (∀ k3_t250 : Fin (k3_t250_loop i v574 v579).trips, ∀ (k3_h125 : k3_cond125 i v574 v579 = 1#1), ∀ a, (k3_off1000 i v574 v579 k3_t250) a + S1x16.size a ≤ S256x128.size a) ∧
  (∀ k3_t250 : Fin (k3_t250_loop i v574 v579).trips, ∀ (k3_h125 : k3_cond125 i v574 v579 = 1#1), ∀ a, (k3_off1001 i v574 v579 k3_t250) a + S1x16.size a ≤ S256x128.size a) ∧
  (∀ k3_t250 : Fin (k3_t250_loop i v574 v579).trips, ∀ (k3_h125 : k3_cond125 i v574 v579 = 1#1), ∀ a, (k3_off1002 i v574 v579 k3_t250) a + S1x16.size a ≤ S256x128.size a)
def k3_chk29 (i : grid3.Coords) (v574 : BitVec 32) (v579 : BitVec 32) : Prop :=
  k3_chk29_0 i v574 v579 ∧
  k3_chk29_1 i v574 v579
theorem k3_t57_ok : ∀ (i : grid3.Coords) (v574 : BitVec 32) (v579 : BitVec 32) (k3_hw29 : k3_chk29 i v574 v579), ∀ (k3_h29 : k3_cond29 i v574 v579 = 1#1), (k3_t57_loop i v574 v579).OK := fun i v574 v579 k3_hw29 k3_h29 => k3_hw29.1.1 k3_h29
theorem k3_off226_inb : ∀ (i : grid3.Coords) (v574 : BitVec 32) (v579 : BitVec 32) (k3_hw29 : k3_chk29 i v574 v579) (k3_t57 : Fin (k3_t57_loop i v574 v579).trips), ∀ (k3_h29 : k3_cond29 i v574 v579 = 1#1), ∀ a, (k3_off226 i v574 v579 k3_t57) a + S1x16.size a ≤ S256x128.size a := fun i v574 v579 k3_hw29 k3_t57 k3_h29 => k3_hw29.1.2.1 k3_t57 k3_h29
theorem k3_off227_inb : ∀ (i : grid3.Coords) (v574 : BitVec 32) (v579 : BitVec 32) (k3_hw29 : k3_chk29 i v574 v579) (k3_t57 : Fin (k3_t57_loop i v574 v579).trips), ∀ (k3_h29 : k3_cond29 i v574 v579 = 1#1), ∀ a, (k3_off227 i v574 v579 k3_t57) a + S1x16.size a ≤ S256x128.size a := fun i v574 v579 k3_hw29 k3_t57 k3_h29 => k3_hw29.1.2.2.1 k3_t57 k3_h29
theorem k3_off228_inb : ∀ (i : grid3.Coords) (v574 : BitVec 32) (v579 : BitVec 32) (k3_hw29 : k3_chk29 i v574 v579) (k3_t57 : Fin (k3_t57_loop i v574 v579).trips), ∀ (k3_h29 : k3_cond29 i v574 v579 = 1#1), ∀ a, (k3_off228 i v574 v579 k3_t57) a + S1x16.size a ≤ S256x128.size a := fun i v574 v579 k3_hw29 k3_t57 k3_h29 => k3_hw29.1.2.2.2.1 k3_t57 k3_h29
theorem k3_off229_inb : ∀ (i : grid3.Coords) (v574 : BitVec 32) (v579 : BitVec 32) (k3_hw29 : k3_chk29 i v574 v579) (k3_t57 : Fin (k3_t57_loop i v574 v579).trips), ∀ (k3_h29 : k3_cond29 i v574 v579 = 1#1), ∀ a, (k3_off229 i v574 v579 k3_t57) a + S1x16.size a ≤ S256x128.size a := fun i v574 v579 k3_hw29 k3_t57 k3_h29 => k3_hw29.1.2.2.2.2.1 k3_t57 k3_h29
theorem k3_t58_ok : ∀ (i : grid3.Coords) (v574 : BitVec 32) (v579 : BitVec 32) (k3_hw29 : k3_chk29 i v574 v579), ∀ (k3_h29 : k3_cond29 i v574 v579 = 1#1), (k3_t58_loop i v574 v579).OK := fun i v574 v579 k3_hw29 k3_h29 => k3_hw29.1.2.2.2.2.2.1 k3_h29
theorem k3_off230_inb : ∀ (i : grid3.Coords) (v574 : BitVec 32) (v579 : BitVec 32) (k3_hw29 : k3_chk29 i v574 v579) (k3_t58 : Fin (k3_t58_loop i v574 v579).trips), ∀ (k3_h29 : k3_cond29 i v574 v579 = 1#1), ∀ a, (k3_off230 i v574 v579 k3_t58) a + S1x16.size a ≤ S256x128.size a := fun i v574 v579 k3_hw29 k3_t58 k3_h29 => k3_hw29.1.2.2.2.2.2.2.1 k3_t58 k3_h29
theorem k3_off231_inb : ∀ (i : grid3.Coords) (v574 : BitVec 32) (v579 : BitVec 32) (k3_hw29 : k3_chk29 i v574 v579) (k3_t58 : Fin (k3_t58_loop i v574 v579).trips), ∀ (k3_h29 : k3_cond29 i v574 v579 = 1#1), ∀ a, (k3_off231 i v574 v579 k3_t58) a + S1x16.size a ≤ S256x128.size a := fun i v574 v579 k3_hw29 k3_t58 k3_h29 => k3_hw29.1.2.2.2.2.2.2.2.1 k3_t58 k3_h29
theorem k3_off232_inb : ∀ (i : grid3.Coords) (v574 : BitVec 32) (v579 : BitVec 32) (k3_hw29 : k3_chk29 i v574 v579) (k3_t58 : Fin (k3_t58_loop i v574 v579).trips), ∀ (k3_h29 : k3_cond29 i v574 v579 = 1#1), ∀ a, (k3_off232 i v574 v579 k3_t58) a + S1x16.size a ≤ S256x128.size a := fun i v574 v579 k3_hw29 k3_t58 k3_h29 => k3_hw29.1.2.2.2.2.2.2.2.2.1 k3_t58 k3_h29
theorem k3_off233_inb : ∀ (i : grid3.Coords) (v574 : BitVec 32) (v579 : BitVec 32) (k3_hw29 : k3_chk29 i v574 v579) (k3_t58 : Fin (k3_t58_loop i v574 v579).trips), ∀ (k3_h29 : k3_cond29 i v574 v579 = 1#1), ∀ a, (k3_off233 i v574 v579 k3_t58) a + S1x16.size a ≤ S256x128.size a := fun i v574 v579 k3_hw29 k3_t58 k3_h29 => k3_hw29.1.2.2.2.2.2.2.2.2.2.1 k3_t58 k3_h29
theorem k3_t121_ok : ∀ (i : grid3.Coords) (v574 : BitVec 32) (v579 : BitVec 32) (k3_hw29 : k3_chk29 i v574 v579), ∀ (k3_h61 : k3_cond61 i v574 v579 = 1#1), (k3_t121_loop i v574 v579).OK := fun i v574 v579 k3_hw29 k3_h61 => k3_hw29.1.2.2.2.2.2.2.2.2.2.2.1 k3_h61
theorem k3_off483_inb : ∀ (i : grid3.Coords) (v574 : BitVec 32) (v579 : BitVec 32) (k3_hw29 : k3_chk29 i v574 v579) (k3_t121 : Fin (k3_t121_loop i v574 v579).trips), ∀ (k3_h61 : k3_cond61 i v574 v579 = 1#1), ∀ a, (k3_off483 i v574 v579 k3_t121) a + S1x16.size a ≤ S256x128.size a := fun i v574 v579 k3_hw29 k3_t121 k3_h61 => k3_hw29.1.2.2.2.2.2.2.2.2.2.2.2.1 k3_t121 k3_h61
theorem k3_off484_inb : ∀ (i : grid3.Coords) (v574 : BitVec 32) (v579 : BitVec 32) (k3_hw29 : k3_chk29 i v574 v579) (k3_t121 : Fin (k3_t121_loop i v574 v579).trips), ∀ (k3_h61 : k3_cond61 i v574 v579 = 1#1), ∀ a, (k3_off484 i v574 v579 k3_t121) a + S1x16.size a ≤ S256x128.size a := fun i v574 v579 k3_hw29 k3_t121 k3_h61 => k3_hw29.1.2.2.2.2.2.2.2.2.2.2.2.2.1 k3_t121 k3_h61
theorem k3_off485_inb : ∀ (i : grid3.Coords) (v574 : BitVec 32) (v579 : BitVec 32) (k3_hw29 : k3_chk29 i v574 v579) (k3_t121 : Fin (k3_t121_loop i v574 v579).trips), ∀ (k3_h61 : k3_cond61 i v574 v579 = 1#1), ∀ a, (k3_off485 i v574 v579 k3_t121) a + S1x16.size a ≤ S256x128.size a := fun i v574 v579 k3_hw29 k3_t121 k3_h61 => k3_hw29.1.2.2.2.2.2.2.2.2.2.2.2.2.2.1 k3_t121 k3_h61
theorem k3_off486_inb : ∀ (i : grid3.Coords) (v574 : BitVec 32) (v579 : BitVec 32) (k3_hw29 : k3_chk29 i v574 v579) (k3_t121 : Fin (k3_t121_loop i v574 v579).trips), ∀ (k3_h61 : k3_cond61 i v574 v579 = 1#1), ∀ a, (k3_off486 i v574 v579 k3_t121) a + S1x16.size a ≤ S256x128.size a := fun i v574 v579 k3_hw29 k3_t121 k3_h61 => k3_hw29.1.2.2.2.2.2.2.2.2.2.2.2.2.2.2.1 k3_t121 k3_h61
theorem k3_t122_ok : ∀ (i : grid3.Coords) (v574 : BitVec 32) (v579 : BitVec 32) (k3_hw29 : k3_chk29 i v574 v579), ∀ (k3_h61 : k3_cond61 i v574 v579 = 1#1), (k3_t122_loop i v574 v579).OK := fun i v574 v579 k3_hw29 k3_h61 => k3_hw29.1.2.2.2.2.2.2.2.2.2.2.2.2.2.2.2.1 k3_h61
theorem k3_off487_inb : ∀ (i : grid3.Coords) (v574 : BitVec 32) (v579 : BitVec 32) (k3_hw29 : k3_chk29 i v574 v579) (k3_t122 : Fin (k3_t122_loop i v574 v579).trips), ∀ (k3_h61 : k3_cond61 i v574 v579 = 1#1), ∀ a, (k3_off487 i v574 v579 k3_t122) a + S1x16.size a ≤ S256x128.size a := fun i v574 v579 k3_hw29 k3_t122 k3_h61 => k3_hw29.1.2.2.2.2.2.2.2.2.2.2.2.2.2.2.2.2.1 k3_t122 k3_h61
theorem k3_off488_inb : ∀ (i : grid3.Coords) (v574 : BitVec 32) (v579 : BitVec 32) (k3_hw29 : k3_chk29 i v574 v579) (k3_t122 : Fin (k3_t122_loop i v574 v579).trips), ∀ (k3_h61 : k3_cond61 i v574 v579 = 1#1), ∀ a, (k3_off488 i v574 v579 k3_t122) a + S1x16.size a ≤ S256x128.size a := fun i v574 v579 k3_hw29 k3_t122 k3_h61 => k3_hw29.1.2.2.2.2.2.2.2.2.2.2.2.2.2.2.2.2.2.1 k3_t122 k3_h61
theorem k3_off489_inb : ∀ (i : grid3.Coords) (v574 : BitVec 32) (v579 : BitVec 32) (k3_hw29 : k3_chk29 i v574 v579) (k3_t122 : Fin (k3_t122_loop i v574 v579).trips), ∀ (k3_h61 : k3_cond61 i v574 v579 = 1#1), ∀ a, (k3_off489 i v574 v579 k3_t122) a + S1x16.size a ≤ S256x128.size a := fun i v574 v579 k3_hw29 k3_t122 k3_h61 => k3_hw29.1.2.2.2.2.2.2.2.2.2.2.2.2.2.2.2.2.2.2.1 k3_t122 k3_h61
theorem k3_off490_inb : ∀ (i : grid3.Coords) (v574 : BitVec 32) (v579 : BitVec 32) (k3_hw29 : k3_chk29 i v574 v579) (k3_t122 : Fin (k3_t122_loop i v574 v579).trips), ∀ (k3_h61 : k3_cond61 i v574 v579 = 1#1), ∀ a, (k3_off490 i v574 v579 k3_t122) a + S1x16.size a ≤ S256x128.size a := fun i v574 v579 k3_hw29 k3_t122 k3_h61 => k3_hw29.1.2.2.2.2.2.2.2.2.2.2.2.2.2.2.2.2.2.2.2.1 k3_t122 k3_h61
theorem k3_t185_ok : ∀ (i : grid3.Coords) (v574 : BitVec 32) (v579 : BitVec 32) (k3_hw29 : k3_chk29 i v574 v579), ∀ (k3_h93 : k3_cond93 i v574 v579 = 1#1), (k3_t185_loop i v574 v579).OK := fun i v574 v579 k3_hw29 k3_h93 => k3_hw29.1.2.2.2.2.2.2.2.2.2.2.2.2.2.2.2.2.2.2.2.2.1 k3_h93
theorem k3_off739_inb : ∀ (i : grid3.Coords) (v574 : BitVec 32) (v579 : BitVec 32) (k3_hw29 : k3_chk29 i v574 v579) (k3_t185 : Fin (k3_t185_loop i v574 v579).trips), ∀ (k3_h93 : k3_cond93 i v574 v579 = 1#1), ∀ a, (k3_off739 i v574 v579 k3_t185) a + S1x16.size a ≤ S256x128.size a := fun i v574 v579 k3_hw29 k3_t185 k3_h93 => k3_hw29.1.2.2.2.2.2.2.2.2.2.2.2.2.2.2.2.2.2.2.2.2.2.1 k3_t185 k3_h93
theorem k3_off740_inb : ∀ (i : grid3.Coords) (v574 : BitVec 32) (v579 : BitVec 32) (k3_hw29 : k3_chk29 i v574 v579) (k3_t185 : Fin (k3_t185_loop i v574 v579).trips), ∀ (k3_h93 : k3_cond93 i v574 v579 = 1#1), ∀ a, (k3_off740 i v574 v579 k3_t185) a + S1x16.size a ≤ S256x128.size a := fun i v574 v579 k3_hw29 k3_t185 k3_h93 => k3_hw29.1.2.2.2.2.2.2.2.2.2.2.2.2.2.2.2.2.2.2.2.2.2.2.1 k3_t185 k3_h93
theorem k3_off741_inb : ∀ (i : grid3.Coords) (v574 : BitVec 32) (v579 : BitVec 32) (k3_hw29 : k3_chk29 i v574 v579) (k3_t185 : Fin (k3_t185_loop i v574 v579).trips), ∀ (k3_h93 : k3_cond93 i v574 v579 = 1#1), ∀ a, (k3_off741 i v574 v579 k3_t185) a + S1x16.size a ≤ S256x128.size a := fun i v574 v579 k3_hw29 k3_t185 k3_h93 => k3_hw29.1.2.2.2.2.2.2.2.2.2.2.2.2.2.2.2.2.2.2.2.2.2.2.2.1 k3_t185 k3_h93
theorem k3_off742_inb : ∀ (i : grid3.Coords) (v574 : BitVec 32) (v579 : BitVec 32) (k3_hw29 : k3_chk29 i v574 v579) (k3_t185 : Fin (k3_t185_loop i v574 v579).trips), ∀ (k3_h93 : k3_cond93 i v574 v579 = 1#1), ∀ a, (k3_off742 i v574 v579 k3_t185) a + S1x16.size a ≤ S256x128.size a := fun i v574 v579 k3_hw29 k3_t185 k3_h93 => k3_hw29.1.2.2.2.2.2.2.2.2.2.2.2.2.2.2.2.2.2.2.2.2.2.2.2.2.1 k3_t185 k3_h93
theorem k3_t186_ok : ∀ (i : grid3.Coords) (v574 : BitVec 32) (v579 : BitVec 32) (k3_hw29 : k3_chk29 i v574 v579), ∀ (k3_h93 : k3_cond93 i v574 v579 = 1#1), (k3_t186_loop i v574 v579).OK := fun i v574 v579 k3_hw29 k3_h93 => k3_hw29.1.2.2.2.2.2.2.2.2.2.2.2.2.2.2.2.2.2.2.2.2.2.2.2.2.2.1 k3_h93
theorem k3_off743_inb : ∀ (i : grid3.Coords) (v574 : BitVec 32) (v579 : BitVec 32) (k3_hw29 : k3_chk29 i v574 v579) (k3_t186 : Fin (k3_t186_loop i v574 v579).trips), ∀ (k3_h93 : k3_cond93 i v574 v579 = 1#1), ∀ a, (k3_off743 i v574 v579 k3_t186) a + S1x16.size a ≤ S256x128.size a := fun i v574 v579 k3_hw29 k3_t186 k3_h93 => k3_hw29.1.2.2.2.2.2.2.2.2.2.2.2.2.2.2.2.2.2.2.2.2.2.2.2.2.2.2.1 k3_t186 k3_h93
theorem k3_off744_inb : ∀ (i : grid3.Coords) (v574 : BitVec 32) (v579 : BitVec 32) (k3_hw29 : k3_chk29 i v574 v579) (k3_t186 : Fin (k3_t186_loop i v574 v579).trips), ∀ (k3_h93 : k3_cond93 i v574 v579 = 1#1), ∀ a, (k3_off744 i v574 v579 k3_t186) a + S1x16.size a ≤ S256x128.size a := fun i v574 v579 k3_hw29 k3_t186 k3_h93 => k3_hw29.1.2.2.2.2.2.2.2.2.2.2.2.2.2.2.2.2.2.2.2.2.2.2.2.2.2.2.2.1 k3_t186 k3_h93
theorem k3_off745_inb : ∀ (i : grid3.Coords) (v574 : BitVec 32) (v579 : BitVec 32) (k3_hw29 : k3_chk29 i v574 v579) (k3_t186 : Fin (k3_t186_loop i v574 v579).trips), ∀ (k3_h93 : k3_cond93 i v574 v579 = 1#1), ∀ a, (k3_off745 i v574 v579 k3_t186) a + S1x16.size a ≤ S256x128.size a := fun i v574 v579 k3_hw29 k3_t186 k3_h93 => k3_hw29.1.2.2.2.2.2.2.2.2.2.2.2.2.2.2.2.2.2.2.2.2.2.2.2.2.2.2.2.2.1 k3_t186 k3_h93
theorem k3_off746_inb : ∀ (i : grid3.Coords) (v574 : BitVec 32) (v579 : BitVec 32) (k3_hw29 : k3_chk29 i v574 v579) (k3_t186 : Fin (k3_t186_loop i v574 v579).trips), ∀ (k3_h93 : k3_cond93 i v574 v579 = 1#1), ∀ a, (k3_off746 i v574 v579 k3_t186) a + S1x16.size a ≤ S256x128.size a := fun i v574 v579 k3_hw29 k3_t186 k3_h93 => k3_hw29.1.2.2.2.2.2.2.2.2.2.2.2.2.2.2.2.2.2.2.2.2.2.2.2.2.2.2.2.2.2.1 k3_t186 k3_h93
theorem k3_t249_ok : ∀ (i : grid3.Coords) (v574 : BitVec 32) (v579 : BitVec 32) (k3_hw29 : k3_chk29 i v574 v579), ∀ (k3_h125 : k3_cond125 i v574 v579 = 1#1), (k3_t249_loop i v574 v579).OK := fun i v574 v579 k3_hw29 k3_h125 => k3_hw29.1.2.2.2.2.2.2.2.2.2.2.2.2.2.2.2.2.2.2.2.2.2.2.2.2.2.2.2.2.2.2.1 k3_h125
theorem k3_off995_inb : ∀ (i : grid3.Coords) (v574 : BitVec 32) (v579 : BitVec 32) (k3_hw29 : k3_chk29 i v574 v579) (k3_t249 : Fin (k3_t249_loop i v574 v579).trips), ∀ (k3_h125 : k3_cond125 i v574 v579 = 1#1), ∀ a, (k3_off995 i v574 v579 k3_t249) a + S1x16.size a ≤ S256x128.size a := fun i v574 v579 k3_hw29 k3_t249 k3_h125 => k3_hw29.1.2.2.2.2.2.2.2.2.2.2.2.2.2.2.2.2.2.2.2.2.2.2.2.2.2.2.2.2.2.2.2 k3_t249 k3_h125
theorem k3_off996_inb : ∀ (i : grid3.Coords) (v574 : BitVec 32) (v579 : BitVec 32) (k3_hw29 : k3_chk29 i v574 v579) (k3_t249 : Fin (k3_t249_loop i v574 v579).trips), ∀ (k3_h125 : k3_cond125 i v574 v579 = 1#1), ∀ a, (k3_off996 i v574 v579 k3_t249) a + S1x16.size a ≤ S256x128.size a := fun i v574 v579 k3_hw29 k3_t249 k3_h125 => k3_hw29.2.1 k3_t249 k3_h125
theorem k3_off997_inb : ∀ (i : grid3.Coords) (v574 : BitVec 32) (v579 : BitVec 32) (k3_hw29 : k3_chk29 i v574 v579) (k3_t249 : Fin (k3_t249_loop i v574 v579).trips), ∀ (k3_h125 : k3_cond125 i v574 v579 = 1#1), ∀ a, (k3_off997 i v574 v579 k3_t249) a + S1x16.size a ≤ S256x128.size a := fun i v574 v579 k3_hw29 k3_t249 k3_h125 => k3_hw29.2.2.1 k3_t249 k3_h125
theorem k3_off998_inb : ∀ (i : grid3.Coords) (v574 : BitVec 32) (v579 : BitVec 32) (k3_hw29 : k3_chk29 i v574 v579) (k3_t249 : Fin (k3_t249_loop i v574 v579).trips), ∀ (k3_h125 : k3_cond125 i v574 v579 = 1#1), ∀ a, (k3_off998 i v574 v579 k3_t249) a + S1x16.size a ≤ S256x128.size a := fun i v574 v579 k3_hw29 k3_t249 k3_h125 => k3_hw29.2.2.2.1 k3_t249 k3_h125
theorem k3_t250_ok : ∀ (i : grid3.Coords) (v574 : BitVec 32) (v579 : BitVec 32) (k3_hw29 : k3_chk29 i v574 v579), ∀ (k3_h125 : k3_cond125 i v574 v579 = 1#1), (k3_t250_loop i v574 v579).OK := fun i v574 v579 k3_hw29 k3_h125 => k3_hw29.2.2.2.2.1 k3_h125
theorem k3_off999_inb : ∀ (i : grid3.Coords) (v574 : BitVec 32) (v579 : BitVec 32) (k3_hw29 : k3_chk29 i v574 v579) (k3_t250 : Fin (k3_t250_loop i v574 v579).trips), ∀ (k3_h125 : k3_cond125 i v574 v579 = 1#1), ∀ a, (k3_off999 i v574 v579 k3_t250) a + S1x16.size a ≤ S256x128.size a := fun i v574 v579 k3_hw29 k3_t250 k3_h125 => k3_hw29.2.2.2.2.2.1 k3_t250 k3_h125
theorem k3_off1000_inb : ∀ (i : grid3.Coords) (v574 : BitVec 32) (v579 : BitVec 32) (k3_hw29 : k3_chk29 i v574 v579) (k3_t250 : Fin (k3_t250_loop i v574 v579).trips), ∀ (k3_h125 : k3_cond125 i v574 v579 = 1#1), ∀ a, (k3_off1000 i v574 v579 k3_t250) a + S1x16.size a ≤ S256x128.size a := fun i v574 v579 k3_hw29 k3_t250 k3_h125 => k3_hw29.2.2.2.2.2.2.1 k3_t250 k3_h125
theorem k3_off1001_inb : ∀ (i : grid3.Coords) (v574 : BitVec 32) (v579 : BitVec 32) (k3_hw29 : k3_chk29 i v574 v579) (k3_t250 : Fin (k3_t250_loop i v574 v579).trips), ∀ (k3_h125 : k3_cond125 i v574 v579 = 1#1), ∀ a, (k3_off1001 i v574 v579 k3_t250) a + S1x16.size a ≤ S256x128.size a := fun i v574 v579 k3_hw29 k3_t250 k3_h125 => k3_hw29.2.2.2.2.2.2.2.1 k3_t250 k3_h125
theorem k3_off1002_inb : ∀ (i : grid3.Coords) (v574 : BitVec 32) (v579 : BitVec 32) (k3_hw29 : k3_chk29 i v574 v579) (k3_t250 : Fin (k3_t250_loop i v574 v579).trips), ∀ (k3_h125 : k3_cond125 i v574 v579 = 1#1), ∀ a, (k3_off1002 i v574 v579 k3_t250) a + S1x16.size a ≤ S256x128.size a := fun i v574 v579 k3_hw29 k3_t250 k3_h125 => k3_hw29.2.2.2.2.2.2.2.2 k3_t250 k3_h125

@[reducible] def k3_t251_loop (i : grid3.Coords) (v584 : BitVec 32) (v590 : BitVec 32) : Scf.Loop 32 :=
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let c256_i32_1171 : BitVec 32 := 256#32
  let c0_i32_1170 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c768_i32_1169 : BitVec 32 := 768#32
  let v1769 : BitVec 32 := Scalar.subi v594 c768_i32_1169
  let v1770 : BitVec 32 := Scalar.maxsi c0_i32_1170 v1769
  let v1771 : BitVec 32 := Scalar.minsi c256_i32_1171 v1770
  let v1805 : BitVec 32 := Scalar.subi v1771 v1768
  let c1_i32_1195 : BitVec 32 := 1#32
  let v1807 : BitVec 32 := Scalar.divsi v1805 c1_i32_1195
  let v1808 : BitVec 32 := Scalar.muli v1807 c1_i32_1195
  let v1809 : BitVec 32 := Scalar.addi v1768 v1808
  let c1_i32_1196 : BitVec 32 := 1#32
  ⟨v1768, v1809, c1_i32_1196⟩
def k3_cond126 (i : grid3.Coords) (v584 : BitVec 32) (v590 : BitVec 32) : BitVec 1 :=
  let c256_i32_1171 : BitVec 32 := 256#32
  let c0_i32_1170 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v592 : BitVec 32 := Scalar.subi v591 v3
  let v593 : BitVec 32 := Scalar.maxsi c0_i32_258 v592
  let v594 : BitVec 32 := Scalar.minsi c1024_i32_259 v593
  let c768_i32_1169 : BitVec 32 := 768#32
  let v1769 : BitVec 32 := Scalar.subi v594 c768_i32_1169
  let v1770 : BitVec 32 := Scalar.maxsi c0_i32_1170 v1769
  let v1771 : BitVec 32 := Scalar.minsi c256_i32_1171 v1770
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let v1772 : BitVec 1 := Scalar.cmpi .sgt v1771 v1768
  let v1773 : BitVec 32 := Scalar.extui v1772
  let c0_i32_1172 : BitVec 32 := 0#32
  let v1774 : BitVec 1 := Scalar.cmpi .ne v1773 c0_i32_1172
  v1774

def k3_off1003 (i : grid3.Coords) (v584 : BitVec 32) (v590 : BitVec 32) (k3_t251 : Fin (k3_t251_loop i v584 v590).trips) : Fin 2 → Nat :=
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let c1_i32_1196 : BitVec 32 := 1#32
  let arg13 : BitVec 32 := Scf.iv v1768 c1_i32_1196 k3_t251
  let v1828 : Index := Scalar.indexCast arg13
  let c64 : Index := 64#32
  ![v1828.toNat, 64]
def k3_off1004 (i : grid3.Coords) (v584 : BitVec 32) (v590 : BitVec 32) (k3_t251 : Fin (k3_t251_loop i v584 v590).trips) : Fin 2 → Nat :=
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let c1_i32_1196 : BitVec 32 := 1#32
  let arg13 : BitVec 32 := Scf.iv v1768 c1_i32_1196 k3_t251
  let v1832 : Index := Scalar.indexCast arg13
  let c80 : Index := 80#32
  ![v1832.toNat, 80]
def k3_off1005 (i : grid3.Coords) (v584 : BitVec 32) (v590 : BitVec 32) (k3_t251 : Fin (k3_t251_loop i v584 v590).trips) : Fin 2 → Nat :=
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let c1_i32_1196 : BitVec 32 := 1#32
  let arg13 : BitVec 32 := Scf.iv v1768 c1_i32_1196 k3_t251
  let v1836 : Index := Scalar.indexCast arg13
  let c96 : Index := 96#32
  ![v1836.toNat, 96]
def k3_off1006 (i : grid3.Coords) (v584 : BitVec 32) (v590 : BitVec 32) (k3_t251 : Fin (k3_t251_loop i v584 v590).trips) : Fin 2 → Nat :=
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let c1_i32_1196 : BitVec 32 := 1#32
  let arg13 : BitVec 32 := Scf.iv v1768 c1_i32_1196 k3_t251
  let v1840 : Index := Scalar.indexCast arg13
  let c112 : Index := 112#32
  ![v1840.toNat, 112]
@[reducible] def k3_t252_loop (i : grid3.Coords) (v584 : BitVec 32) (v590 : BitVec 32) : Scf.Loop 32 :=
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let c256_i32_1171 : BitVec 32 := 256#32
  let c0_i32_1170 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c768_i32_1169 : BitVec 32 := 768#32
  let v1769 : BitVec 32 := Scalar.subi v594 c768_i32_1169
  let v1770 : BitVec 32 := Scalar.maxsi c0_i32_1170 v1769
  let v1771 : BitVec 32 := Scalar.minsi c256_i32_1171 v1770
  let v1805 : BitVec 32 := Scalar.subi v1771 v1768
  let c1_i32_1195 : BitVec 32 := 1#32
  let v1807 : BitVec 32 := Scalar.divsi v1805 c1_i32_1195
  let v1808 : BitVec 32 := Scalar.muli v1807 c1_i32_1195
  let v1809 : BitVec 32 := Scalar.addi v1768 v1808
  let v1806 : BitVec 32 := Scalar.addi v1768 v1805
  let c1_i32_1197 : BitVec 32 := 1#32
  ⟨v1809, v1806, c1_i32_1197⟩
def k3_off1007 (i : grid3.Coords) (v584 : BitVec 32) (v590 : BitVec 32) (k3_t252 : Fin (k3_t252_loop i v584 v590).trips) : Fin 2 → Nat :=
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let c256_i32_1171 : BitVec 32 := 256#32
  let c0_i32_1170 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c768_i32_1169 : BitVec 32 := 768#32
  let v1769 : BitVec 32 := Scalar.subi v594 c768_i32_1169
  let v1770 : BitVec 32 := Scalar.maxsi c0_i32_1170 v1769
  let v1771 : BitVec 32 := Scalar.minsi c256_i32_1171 v1770
  let v1805 : BitVec 32 := Scalar.subi v1771 v1768
  let c1_i32_1195 : BitVec 32 := 1#32
  let v1807 : BitVec 32 := Scalar.divsi v1805 c1_i32_1195
  let v1808 : BitVec 32 := Scalar.muli v1807 c1_i32_1195
  let v1809 : BitVec 32 := Scalar.addi v1768 v1808
  let c1_i32_1197 : BitVec 32 := 1#32
  let arg13 : BitVec 32 := Scf.iv v1809 c1_i32_1197 k3_t252
  let v1828 : Index := Scalar.indexCast arg13
  let c64 : Index := 64#32
  ![v1828.toNat, 64]
def k3_off1008 (i : grid3.Coords) (v584 : BitVec 32) (v590 : BitVec 32) (k3_t252 : Fin (k3_t252_loop i v584 v590).trips) : Fin 2 → Nat :=
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let c256_i32_1171 : BitVec 32 := 256#32
  let c0_i32_1170 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c768_i32_1169 : BitVec 32 := 768#32
  let v1769 : BitVec 32 := Scalar.subi v594 c768_i32_1169
  let v1770 : BitVec 32 := Scalar.maxsi c0_i32_1170 v1769
  let v1771 : BitVec 32 := Scalar.minsi c256_i32_1171 v1770
  let v1805 : BitVec 32 := Scalar.subi v1771 v1768
  let c1_i32_1195 : BitVec 32 := 1#32
  let v1807 : BitVec 32 := Scalar.divsi v1805 c1_i32_1195
  let v1808 : BitVec 32 := Scalar.muli v1807 c1_i32_1195
  let v1809 : BitVec 32 := Scalar.addi v1768 v1808
  let c1_i32_1197 : BitVec 32 := 1#32
  let arg13 : BitVec 32 := Scf.iv v1809 c1_i32_1197 k3_t252
  let v1832 : Index := Scalar.indexCast arg13
  let c80 : Index := 80#32
  ![v1832.toNat, 80]
def k3_off1009 (i : grid3.Coords) (v584 : BitVec 32) (v590 : BitVec 32) (k3_t252 : Fin (k3_t252_loop i v584 v590).trips) : Fin 2 → Nat :=
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let c256_i32_1171 : BitVec 32 := 256#32
  let c0_i32_1170 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c768_i32_1169 : BitVec 32 := 768#32
  let v1769 : BitVec 32 := Scalar.subi v594 c768_i32_1169
  let v1770 : BitVec 32 := Scalar.maxsi c0_i32_1170 v1769
  let v1771 : BitVec 32 := Scalar.minsi c256_i32_1171 v1770
  let v1805 : BitVec 32 := Scalar.subi v1771 v1768
  let c1_i32_1195 : BitVec 32 := 1#32
  let v1807 : BitVec 32 := Scalar.divsi v1805 c1_i32_1195
  let v1808 : BitVec 32 := Scalar.muli v1807 c1_i32_1195
  let v1809 : BitVec 32 := Scalar.addi v1768 v1808
  let c1_i32_1197 : BitVec 32 := 1#32
  let arg13 : BitVec 32 := Scf.iv v1809 c1_i32_1197 k3_t252
  let v1836 : Index := Scalar.indexCast arg13
  let c96 : Index := 96#32
  ![v1836.toNat, 96]
def k3_off1010 (i : grid3.Coords) (v584 : BitVec 32) (v590 : BitVec 32) (k3_t252 : Fin (k3_t252_loop i v584 v590).trips) : Fin 2 → Nat :=
  let c256_i32_1168 : BitVec 32 := 256#32
  let c0_i32_1167 : BitVec 32 := 0#32
  let c1024_i32_256 : BitVec 32 := 1024#32
  let c0_i32_255 : BitVec 32 := 0#32
  let c65536_i32_254 : BitVec 32 := 65536#32
  let v585 : BitVec 32 := Scalar.subi v584 c65536_i32_254
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v586 : BitVec 32 := Scalar.subi v585 v3
  let v587 : BitVec 32 := Scalar.maxsi c0_i32_255 v586
  let v588 : BitVec 32 := Scalar.minsi c1024_i32_256 v587
  let c768_i32_1166 : BitVec 32 := 768#32
  let v1766 : BitVec 32 := Scalar.subi v588 c768_i32_1166
  let v1767 : BitVec 32 := Scalar.maxsi c0_i32_1167 v1766
  let v1768 : BitVec 32 := Scalar.minsi c256_i32_1168 v1767
  let c256_i32_1171 : BitVec 32 := 256#32
  let c0_i32_1170 : BitVec 32 := 0#32
  let c1024_i32_259 : BitVec 32 := 1024#32
  let c0_i32_258 : BitVec 32 := 0#32
  let c65536_i32_257 : BitVec 32 := 65536#32
  let v591 : BitVec 32 := Scalar.subi v590 c65536_i32_257
  let v592 : BitVec 32 := Scalar.subi v591 v3
  let v593 : BitVec 32 := Scalar.maxsi c0_i32_258 v592
  let v594 : BitVec 32 := Scalar.minsi c1024_i32_259 v593
  let c768_i32_1169 : BitVec 32 := 768#32
  let v1769 : BitVec 32 := Scalar.subi v594 c768_i32_1169
  let v1770 : BitVec 32 := Scalar.maxsi c0_i32_1170 v1769
  let v1771 : BitVec 32 := Scalar.minsi c256_i32_1171 v1770
  let v1805 : BitVec 32 := Scalar.subi v1771 v1768
  let c1_i32_1195 : BitVec 32 := 1#32
  let v1807 : BitVec 32 := Scalar.divsi v1805 c1_i32_1195
  let v1808 : BitVec 32 := Scalar.muli v1807 c1_i32_1195
  let v1809 : BitVec 32 := Scalar.addi v1768 v1808
  let c1_i32_1197 : BitVec 32 := 1#32
  let arg13 : BitVec 32 := Scf.iv v1809 c1_i32_1197 k3_t252
  let v1840 : Index := Scalar.indexCast arg13
  let c112 : Index := 112#32
  ![v1840.toNat, 112]

def k3_chk30_0 (i : grid3.Coords) (v584 : BitVec 32) (v590 : BitVec 32) : Prop :=
  (∀ (k3_h30 : k3_cond30 i v584 v590 = 1#1), (k3_t59_loop i v584 v590).OK) ∧
  (∀ k3_t59 : Fin (k3_t59_loop i v584 v590).trips, ∀ (k3_h30 : k3_cond30 i v584 v590 = 1#1), ∀ a, (k3_off234 i v584 v590 k3_t59) a + S1x16.size a ≤ S256x128.size a) ∧
  (∀ k3_t59 : Fin (k3_t59_loop i v584 v590).trips, ∀ (k3_h30 : k3_cond30 i v584 v590 = 1#1), ∀ a, (k3_off235 i v584 v590 k3_t59) a + S1x16.size a ≤ S256x128.size a) ∧
  (∀ k3_t59 : Fin (k3_t59_loop i v584 v590).trips, ∀ (k3_h30 : k3_cond30 i v584 v590 = 1#1), ∀ a, (k3_off236 i v584 v590 k3_t59) a + S1x16.size a ≤ S256x128.size a) ∧
  (∀ k3_t59 : Fin (k3_t59_loop i v584 v590).trips, ∀ (k3_h30 : k3_cond30 i v584 v590 = 1#1), ∀ a, (k3_off237 i v584 v590 k3_t59) a + S1x16.size a ≤ S256x128.size a) ∧
  (∀ (k3_h30 : k3_cond30 i v584 v590 = 1#1), (k3_t60_loop i v584 v590).OK) ∧
  (∀ k3_t60 : Fin (k3_t60_loop i v584 v590).trips, ∀ (k3_h30 : k3_cond30 i v584 v590 = 1#1), ∀ a, (k3_off238 i v584 v590 k3_t60) a + S1x16.size a ≤ S256x128.size a) ∧
  (∀ k3_t60 : Fin (k3_t60_loop i v584 v590).trips, ∀ (k3_h30 : k3_cond30 i v584 v590 = 1#1), ∀ a, (k3_off239 i v584 v590 k3_t60) a + S1x16.size a ≤ S256x128.size a) ∧
  (∀ k3_t60 : Fin (k3_t60_loop i v584 v590).trips, ∀ (k3_h30 : k3_cond30 i v584 v590 = 1#1), ∀ a, (k3_off240 i v584 v590 k3_t60) a + S1x16.size a ≤ S256x128.size a) ∧
  (∀ k3_t60 : Fin (k3_t60_loop i v584 v590).trips, ∀ (k3_h30 : k3_cond30 i v584 v590 = 1#1), ∀ a, (k3_off241 i v584 v590 k3_t60) a + S1x16.size a ≤ S256x128.size a) ∧
  (∀ (k3_h62 : k3_cond62 i v584 v590 = 1#1), (k3_t123_loop i v584 v590).OK) ∧
  (∀ k3_t123 : Fin (k3_t123_loop i v584 v590).trips, ∀ (k3_h62 : k3_cond62 i v584 v590 = 1#1), ∀ a, (k3_off491 i v584 v590 k3_t123) a + S1x16.size a ≤ S256x128.size a) ∧
  (∀ k3_t123 : Fin (k3_t123_loop i v584 v590).trips, ∀ (k3_h62 : k3_cond62 i v584 v590 = 1#1), ∀ a, (k3_off492 i v584 v590 k3_t123) a + S1x16.size a ≤ S256x128.size a) ∧
  (∀ k3_t123 : Fin (k3_t123_loop i v584 v590).trips, ∀ (k3_h62 : k3_cond62 i v584 v590 = 1#1), ∀ a, (k3_off493 i v584 v590 k3_t123) a + S1x16.size a ≤ S256x128.size a) ∧
  (∀ k3_t123 : Fin (k3_t123_loop i v584 v590).trips, ∀ (k3_h62 : k3_cond62 i v584 v590 = 1#1), ∀ a, (k3_off494 i v584 v590 k3_t123) a + S1x16.size a ≤ S256x128.size a) ∧
  (∀ (k3_h62 : k3_cond62 i v584 v590 = 1#1), (k3_t124_loop i v584 v590).OK) ∧
  (∀ k3_t124 : Fin (k3_t124_loop i v584 v590).trips, ∀ (k3_h62 : k3_cond62 i v584 v590 = 1#1), ∀ a, (k3_off495 i v584 v590 k3_t124) a + S1x16.size a ≤ S256x128.size a) ∧
  (∀ k3_t124 : Fin (k3_t124_loop i v584 v590).trips, ∀ (k3_h62 : k3_cond62 i v584 v590 = 1#1), ∀ a, (k3_off496 i v584 v590 k3_t124) a + S1x16.size a ≤ S256x128.size a) ∧
  (∀ k3_t124 : Fin (k3_t124_loop i v584 v590).trips, ∀ (k3_h62 : k3_cond62 i v584 v590 = 1#1), ∀ a, (k3_off497 i v584 v590 k3_t124) a + S1x16.size a ≤ S256x128.size a) ∧
  (∀ k3_t124 : Fin (k3_t124_loop i v584 v590).trips, ∀ (k3_h62 : k3_cond62 i v584 v590 = 1#1), ∀ a, (k3_off498 i v584 v590 k3_t124) a + S1x16.size a ≤ S256x128.size a) ∧
  (∀ (k3_h94 : k3_cond94 i v584 v590 = 1#1), (k3_t187_loop i v584 v590).OK) ∧
  (∀ k3_t187 : Fin (k3_t187_loop i v584 v590).trips, ∀ (k3_h94 : k3_cond94 i v584 v590 = 1#1), ∀ a, (k3_off747 i v584 v590 k3_t187) a + S1x16.size a ≤ S256x128.size a) ∧
  (∀ k3_t187 : Fin (k3_t187_loop i v584 v590).trips, ∀ (k3_h94 : k3_cond94 i v584 v590 = 1#1), ∀ a, (k3_off748 i v584 v590 k3_t187) a + S1x16.size a ≤ S256x128.size a) ∧
  (∀ k3_t187 : Fin (k3_t187_loop i v584 v590).trips, ∀ (k3_h94 : k3_cond94 i v584 v590 = 1#1), ∀ a, (k3_off749 i v584 v590 k3_t187) a + S1x16.size a ≤ S256x128.size a) ∧
  (∀ k3_t187 : Fin (k3_t187_loop i v584 v590).trips, ∀ (k3_h94 : k3_cond94 i v584 v590 = 1#1), ∀ a, (k3_off750 i v584 v590 k3_t187) a + S1x16.size a ≤ S256x128.size a) ∧
  (∀ (k3_h94 : k3_cond94 i v584 v590 = 1#1), (k3_t188_loop i v584 v590).OK) ∧
  (∀ k3_t188 : Fin (k3_t188_loop i v584 v590).trips, ∀ (k3_h94 : k3_cond94 i v584 v590 = 1#1), ∀ a, (k3_off751 i v584 v590 k3_t188) a + S1x16.size a ≤ S256x128.size a) ∧
  (∀ k3_t188 : Fin (k3_t188_loop i v584 v590).trips, ∀ (k3_h94 : k3_cond94 i v584 v590 = 1#1), ∀ a, (k3_off752 i v584 v590 k3_t188) a + S1x16.size a ≤ S256x128.size a) ∧
  (∀ k3_t188 : Fin (k3_t188_loop i v584 v590).trips, ∀ (k3_h94 : k3_cond94 i v584 v590 = 1#1), ∀ a, (k3_off753 i v584 v590 k3_t188) a + S1x16.size a ≤ S256x128.size a) ∧
  (∀ k3_t188 : Fin (k3_t188_loop i v584 v590).trips, ∀ (k3_h94 : k3_cond94 i v584 v590 = 1#1), ∀ a, (k3_off754 i v584 v590 k3_t188) a + S1x16.size a ≤ S256x128.size a) ∧
  (∀ (k3_h126 : k3_cond126 i v584 v590 = 1#1), (k3_t251_loop i v584 v590).OK) ∧
  (∀ k3_t251 : Fin (k3_t251_loop i v584 v590).trips, ∀ (k3_h126 : k3_cond126 i v584 v590 = 1#1), ∀ a, (k3_off1003 i v584 v590 k3_t251) a + S1x16.size a ≤ S256x128.size a)
def k3_chk30_1 (i : grid3.Coords) (v584 : BitVec 32) (v590 : BitVec 32) : Prop :=
  (∀ k3_t251 : Fin (k3_t251_loop i v584 v590).trips, ∀ (k3_h126 : k3_cond126 i v584 v590 = 1#1), ∀ a, (k3_off1004 i v584 v590 k3_t251) a + S1x16.size a ≤ S256x128.size a) ∧
  (∀ k3_t251 : Fin (k3_t251_loop i v584 v590).trips, ∀ (k3_h126 : k3_cond126 i v584 v590 = 1#1), ∀ a, (k3_off1005 i v584 v590 k3_t251) a + S1x16.size a ≤ S256x128.size a) ∧
  (∀ k3_t251 : Fin (k3_t251_loop i v584 v590).trips, ∀ (k3_h126 : k3_cond126 i v584 v590 = 1#1), ∀ a, (k3_off1006 i v584 v590 k3_t251) a + S1x16.size a ≤ S256x128.size a) ∧
  (∀ (k3_h126 : k3_cond126 i v584 v590 = 1#1), (k3_t252_loop i v584 v590).OK) ∧
  (∀ k3_t252 : Fin (k3_t252_loop i v584 v590).trips, ∀ (k3_h126 : k3_cond126 i v584 v590 = 1#1), ∀ a, (k3_off1007 i v584 v590 k3_t252) a + S1x16.size a ≤ S256x128.size a) ∧
  (∀ k3_t252 : Fin (k3_t252_loop i v584 v590).trips, ∀ (k3_h126 : k3_cond126 i v584 v590 = 1#1), ∀ a, (k3_off1008 i v584 v590 k3_t252) a + S1x16.size a ≤ S256x128.size a) ∧
  (∀ k3_t252 : Fin (k3_t252_loop i v584 v590).trips, ∀ (k3_h126 : k3_cond126 i v584 v590 = 1#1), ∀ a, (k3_off1009 i v584 v590 k3_t252) a + S1x16.size a ≤ S256x128.size a) ∧
  (∀ k3_t252 : Fin (k3_t252_loop i v584 v590).trips, ∀ (k3_h126 : k3_cond126 i v584 v590 = 1#1), ∀ a, (k3_off1010 i v584 v590 k3_t252) a + S1x16.size a ≤ S256x128.size a)
def k3_chk30 (i : grid3.Coords) (v584 : BitVec 32) (v590 : BitVec 32) : Prop :=
  k3_chk30_0 i v584 v590 ∧
  k3_chk30_1 i v584 v590
theorem k3_t59_ok : ∀ (i : grid3.Coords) (v584 : BitVec 32) (v590 : BitVec 32) (k3_hw30 : k3_chk30 i v584 v590), ∀ (k3_h30 : k3_cond30 i v584 v590 = 1#1), (k3_t59_loop i v584 v590).OK := fun i v584 v590 k3_hw30 k3_h30 => k3_hw30.1.1 k3_h30
theorem k3_off234_inb : ∀ (i : grid3.Coords) (v584 : BitVec 32) (v590 : BitVec 32) (k3_hw30 : k3_chk30 i v584 v590) (k3_t59 : Fin (k3_t59_loop i v584 v590).trips), ∀ (k3_h30 : k3_cond30 i v584 v590 = 1#1), ∀ a, (k3_off234 i v584 v590 k3_t59) a + S1x16.size a ≤ S256x128.size a := fun i v584 v590 k3_hw30 k3_t59 k3_h30 => k3_hw30.1.2.1 k3_t59 k3_h30
theorem k3_off235_inb : ∀ (i : grid3.Coords) (v584 : BitVec 32) (v590 : BitVec 32) (k3_hw30 : k3_chk30 i v584 v590) (k3_t59 : Fin (k3_t59_loop i v584 v590).trips), ∀ (k3_h30 : k3_cond30 i v584 v590 = 1#1), ∀ a, (k3_off235 i v584 v590 k3_t59) a + S1x16.size a ≤ S256x128.size a := fun i v584 v590 k3_hw30 k3_t59 k3_h30 => k3_hw30.1.2.2.1 k3_t59 k3_h30
theorem k3_off236_inb : ∀ (i : grid3.Coords) (v584 : BitVec 32) (v590 : BitVec 32) (k3_hw30 : k3_chk30 i v584 v590) (k3_t59 : Fin (k3_t59_loop i v584 v590).trips), ∀ (k3_h30 : k3_cond30 i v584 v590 = 1#1), ∀ a, (k3_off236 i v584 v590 k3_t59) a + S1x16.size a ≤ S256x128.size a := fun i v584 v590 k3_hw30 k3_t59 k3_h30 => k3_hw30.1.2.2.2.1 k3_t59 k3_h30
theorem k3_off237_inb : ∀ (i : grid3.Coords) (v584 : BitVec 32) (v590 : BitVec 32) (k3_hw30 : k3_chk30 i v584 v590) (k3_t59 : Fin (k3_t59_loop i v584 v590).trips), ∀ (k3_h30 : k3_cond30 i v584 v590 = 1#1), ∀ a, (k3_off237 i v584 v590 k3_t59) a + S1x16.size a ≤ S256x128.size a := fun i v584 v590 k3_hw30 k3_t59 k3_h30 => k3_hw30.1.2.2.2.2.1 k3_t59 k3_h30
theorem k3_t60_ok : ∀ (i : grid3.Coords) (v584 : BitVec 32) (v590 : BitVec 32) (k3_hw30 : k3_chk30 i v584 v590), ∀ (k3_h30 : k3_cond30 i v584 v590 = 1#1), (k3_t60_loop i v584 v590).OK := fun i v584 v590 k3_hw30 k3_h30 => k3_hw30.1.2.2.2.2.2.1 k3_h30
theorem k3_off238_inb : ∀ (i : grid3.Coords) (v584 : BitVec 32) (v590 : BitVec 32) (k3_hw30 : k3_chk30 i v584 v590) (k3_t60 : Fin (k3_t60_loop i v584 v590).trips), ∀ (k3_h30 : k3_cond30 i v584 v590 = 1#1), ∀ a, (k3_off238 i v584 v590 k3_t60) a + S1x16.size a ≤ S256x128.size a := fun i v584 v590 k3_hw30 k3_t60 k3_h30 => k3_hw30.1.2.2.2.2.2.2.1 k3_t60 k3_h30
theorem k3_off239_inb : ∀ (i : grid3.Coords) (v584 : BitVec 32) (v590 : BitVec 32) (k3_hw30 : k3_chk30 i v584 v590) (k3_t60 : Fin (k3_t60_loop i v584 v590).trips), ∀ (k3_h30 : k3_cond30 i v584 v590 = 1#1), ∀ a, (k3_off239 i v584 v590 k3_t60) a + S1x16.size a ≤ S256x128.size a := fun i v584 v590 k3_hw30 k3_t60 k3_h30 => k3_hw30.1.2.2.2.2.2.2.2.1 k3_t60 k3_h30
theorem k3_off240_inb : ∀ (i : grid3.Coords) (v584 : BitVec 32) (v590 : BitVec 32) (k3_hw30 : k3_chk30 i v584 v590) (k3_t60 : Fin (k3_t60_loop i v584 v590).trips), ∀ (k3_h30 : k3_cond30 i v584 v590 = 1#1), ∀ a, (k3_off240 i v584 v590 k3_t60) a + S1x16.size a ≤ S256x128.size a := fun i v584 v590 k3_hw30 k3_t60 k3_h30 => k3_hw30.1.2.2.2.2.2.2.2.2.1 k3_t60 k3_h30
theorem k3_off241_inb : ∀ (i : grid3.Coords) (v584 : BitVec 32) (v590 : BitVec 32) (k3_hw30 : k3_chk30 i v584 v590) (k3_t60 : Fin (k3_t60_loop i v584 v590).trips), ∀ (k3_h30 : k3_cond30 i v584 v590 = 1#1), ∀ a, (k3_off241 i v584 v590 k3_t60) a + S1x16.size a ≤ S256x128.size a := fun i v584 v590 k3_hw30 k3_t60 k3_h30 => k3_hw30.1.2.2.2.2.2.2.2.2.2.1 k3_t60 k3_h30
theorem k3_t123_ok : ∀ (i : grid3.Coords) (v584 : BitVec 32) (v590 : BitVec 32) (k3_hw30 : k3_chk30 i v584 v590), ∀ (k3_h62 : k3_cond62 i v584 v590 = 1#1), (k3_t123_loop i v584 v590).OK := fun i v584 v590 k3_hw30 k3_h62 => k3_hw30.1.2.2.2.2.2.2.2.2.2.2.1 k3_h62
theorem k3_off491_inb : ∀ (i : grid3.Coords) (v584 : BitVec 32) (v590 : BitVec 32) (k3_hw30 : k3_chk30 i v584 v590) (k3_t123 : Fin (k3_t123_loop i v584 v590).trips), ∀ (k3_h62 : k3_cond62 i v584 v590 = 1#1), ∀ a, (k3_off491 i v584 v590 k3_t123) a + S1x16.size a ≤ S256x128.size a := fun i v584 v590 k3_hw30 k3_t123 k3_h62 => k3_hw30.1.2.2.2.2.2.2.2.2.2.2.2.1 k3_t123 k3_h62
theorem k3_off492_inb : ∀ (i : grid3.Coords) (v584 : BitVec 32) (v590 : BitVec 32) (k3_hw30 : k3_chk30 i v584 v590) (k3_t123 : Fin (k3_t123_loop i v584 v590).trips), ∀ (k3_h62 : k3_cond62 i v584 v590 = 1#1), ∀ a, (k3_off492 i v584 v590 k3_t123) a + S1x16.size a ≤ S256x128.size a := fun i v584 v590 k3_hw30 k3_t123 k3_h62 => k3_hw30.1.2.2.2.2.2.2.2.2.2.2.2.2.1 k3_t123 k3_h62
theorem k3_off493_inb : ∀ (i : grid3.Coords) (v584 : BitVec 32) (v590 : BitVec 32) (k3_hw30 : k3_chk30 i v584 v590) (k3_t123 : Fin (k3_t123_loop i v584 v590).trips), ∀ (k3_h62 : k3_cond62 i v584 v590 = 1#1), ∀ a, (k3_off493 i v584 v590 k3_t123) a + S1x16.size a ≤ S256x128.size a := fun i v584 v590 k3_hw30 k3_t123 k3_h62 => k3_hw30.1.2.2.2.2.2.2.2.2.2.2.2.2.2.1 k3_t123 k3_h62
theorem k3_off494_inb : ∀ (i : grid3.Coords) (v584 : BitVec 32) (v590 : BitVec 32) (k3_hw30 : k3_chk30 i v584 v590) (k3_t123 : Fin (k3_t123_loop i v584 v590).trips), ∀ (k3_h62 : k3_cond62 i v584 v590 = 1#1), ∀ a, (k3_off494 i v584 v590 k3_t123) a + S1x16.size a ≤ S256x128.size a := fun i v584 v590 k3_hw30 k3_t123 k3_h62 => k3_hw30.1.2.2.2.2.2.2.2.2.2.2.2.2.2.2.1 k3_t123 k3_h62
theorem k3_t124_ok : ∀ (i : grid3.Coords) (v584 : BitVec 32) (v590 : BitVec 32) (k3_hw30 : k3_chk30 i v584 v590), ∀ (k3_h62 : k3_cond62 i v584 v590 = 1#1), (k3_t124_loop i v584 v590).OK := fun i v584 v590 k3_hw30 k3_h62 => k3_hw30.1.2.2.2.2.2.2.2.2.2.2.2.2.2.2.2.1 k3_h62
theorem k3_off495_inb : ∀ (i : grid3.Coords) (v584 : BitVec 32) (v590 : BitVec 32) (k3_hw30 : k3_chk30 i v584 v590) (k3_t124 : Fin (k3_t124_loop i v584 v590).trips), ∀ (k3_h62 : k3_cond62 i v584 v590 = 1#1), ∀ a, (k3_off495 i v584 v590 k3_t124) a + S1x16.size a ≤ S256x128.size a := fun i v584 v590 k3_hw30 k3_t124 k3_h62 => k3_hw30.1.2.2.2.2.2.2.2.2.2.2.2.2.2.2.2.2.1 k3_t124 k3_h62
theorem k3_off496_inb : ∀ (i : grid3.Coords) (v584 : BitVec 32) (v590 : BitVec 32) (k3_hw30 : k3_chk30 i v584 v590) (k3_t124 : Fin (k3_t124_loop i v584 v590).trips), ∀ (k3_h62 : k3_cond62 i v584 v590 = 1#1), ∀ a, (k3_off496 i v584 v590 k3_t124) a + S1x16.size a ≤ S256x128.size a := fun i v584 v590 k3_hw30 k3_t124 k3_h62 => k3_hw30.1.2.2.2.2.2.2.2.2.2.2.2.2.2.2.2.2.2.1 k3_t124 k3_h62
theorem k3_off497_inb : ∀ (i : grid3.Coords) (v584 : BitVec 32) (v590 : BitVec 32) (k3_hw30 : k3_chk30 i v584 v590) (k3_t124 : Fin (k3_t124_loop i v584 v590).trips), ∀ (k3_h62 : k3_cond62 i v584 v590 = 1#1), ∀ a, (k3_off497 i v584 v590 k3_t124) a + S1x16.size a ≤ S256x128.size a := fun i v584 v590 k3_hw30 k3_t124 k3_h62 => k3_hw30.1.2.2.2.2.2.2.2.2.2.2.2.2.2.2.2.2.2.2.1 k3_t124 k3_h62
theorem k3_off498_inb : ∀ (i : grid3.Coords) (v584 : BitVec 32) (v590 : BitVec 32) (k3_hw30 : k3_chk30 i v584 v590) (k3_t124 : Fin (k3_t124_loop i v584 v590).trips), ∀ (k3_h62 : k3_cond62 i v584 v590 = 1#1), ∀ a, (k3_off498 i v584 v590 k3_t124) a + S1x16.size a ≤ S256x128.size a := fun i v584 v590 k3_hw30 k3_t124 k3_h62 => k3_hw30.1.2.2.2.2.2.2.2.2.2.2.2.2.2.2.2.2.2.2.2.1 k3_t124 k3_h62
theorem k3_t187_ok : ∀ (i : grid3.Coords) (v584 : BitVec 32) (v590 : BitVec 32) (k3_hw30 : k3_chk30 i v584 v590), ∀ (k3_h94 : k3_cond94 i v584 v590 = 1#1), (k3_t187_loop i v584 v590).OK := fun i v584 v590 k3_hw30 k3_h94 => k3_hw30.1.2.2.2.2.2.2.2.2.2.2.2.2.2.2.2.2.2.2.2.2.1 k3_h94
theorem k3_off747_inb : ∀ (i : grid3.Coords) (v584 : BitVec 32) (v590 : BitVec 32) (k3_hw30 : k3_chk30 i v584 v590) (k3_t187 : Fin (k3_t187_loop i v584 v590).trips), ∀ (k3_h94 : k3_cond94 i v584 v590 = 1#1), ∀ a, (k3_off747 i v584 v590 k3_t187) a + S1x16.size a ≤ S256x128.size a := fun i v584 v590 k3_hw30 k3_t187 k3_h94 => k3_hw30.1.2.2.2.2.2.2.2.2.2.2.2.2.2.2.2.2.2.2.2.2.2.1 k3_t187 k3_h94
theorem k3_off748_inb : ∀ (i : grid3.Coords) (v584 : BitVec 32) (v590 : BitVec 32) (k3_hw30 : k3_chk30 i v584 v590) (k3_t187 : Fin (k3_t187_loop i v584 v590).trips), ∀ (k3_h94 : k3_cond94 i v584 v590 = 1#1), ∀ a, (k3_off748 i v584 v590 k3_t187) a + S1x16.size a ≤ S256x128.size a := fun i v584 v590 k3_hw30 k3_t187 k3_h94 => k3_hw30.1.2.2.2.2.2.2.2.2.2.2.2.2.2.2.2.2.2.2.2.2.2.2.1 k3_t187 k3_h94
theorem k3_off749_inb : ∀ (i : grid3.Coords) (v584 : BitVec 32) (v590 : BitVec 32) (k3_hw30 : k3_chk30 i v584 v590) (k3_t187 : Fin (k3_t187_loop i v584 v590).trips), ∀ (k3_h94 : k3_cond94 i v584 v590 = 1#1), ∀ a, (k3_off749 i v584 v590 k3_t187) a + S1x16.size a ≤ S256x128.size a := fun i v584 v590 k3_hw30 k3_t187 k3_h94 => k3_hw30.1.2.2.2.2.2.2.2.2.2.2.2.2.2.2.2.2.2.2.2.2.2.2.2.1 k3_t187 k3_h94
theorem k3_off750_inb : ∀ (i : grid3.Coords) (v584 : BitVec 32) (v590 : BitVec 32) (k3_hw30 : k3_chk30 i v584 v590) (k3_t187 : Fin (k3_t187_loop i v584 v590).trips), ∀ (k3_h94 : k3_cond94 i v584 v590 = 1#1), ∀ a, (k3_off750 i v584 v590 k3_t187) a + S1x16.size a ≤ S256x128.size a := fun i v584 v590 k3_hw30 k3_t187 k3_h94 => k3_hw30.1.2.2.2.2.2.2.2.2.2.2.2.2.2.2.2.2.2.2.2.2.2.2.2.2.1 k3_t187 k3_h94
theorem k3_t188_ok : ∀ (i : grid3.Coords) (v584 : BitVec 32) (v590 : BitVec 32) (k3_hw30 : k3_chk30 i v584 v590), ∀ (k3_h94 : k3_cond94 i v584 v590 = 1#1), (k3_t188_loop i v584 v590).OK := fun i v584 v590 k3_hw30 k3_h94 => k3_hw30.1.2.2.2.2.2.2.2.2.2.2.2.2.2.2.2.2.2.2.2.2.2.2.2.2.2.1 k3_h94
theorem k3_off751_inb : ∀ (i : grid3.Coords) (v584 : BitVec 32) (v590 : BitVec 32) (k3_hw30 : k3_chk30 i v584 v590) (k3_t188 : Fin (k3_t188_loop i v584 v590).trips), ∀ (k3_h94 : k3_cond94 i v584 v590 = 1#1), ∀ a, (k3_off751 i v584 v590 k3_t188) a + S1x16.size a ≤ S256x128.size a := fun i v584 v590 k3_hw30 k3_t188 k3_h94 => k3_hw30.1.2.2.2.2.2.2.2.2.2.2.2.2.2.2.2.2.2.2.2.2.2.2.2.2.2.2.1 k3_t188 k3_h94
theorem k3_off752_inb : ∀ (i : grid3.Coords) (v584 : BitVec 32) (v590 : BitVec 32) (k3_hw30 : k3_chk30 i v584 v590) (k3_t188 : Fin (k3_t188_loop i v584 v590).trips), ∀ (k3_h94 : k3_cond94 i v584 v590 = 1#1), ∀ a, (k3_off752 i v584 v590 k3_t188) a + S1x16.size a ≤ S256x128.size a := fun i v584 v590 k3_hw30 k3_t188 k3_h94 => k3_hw30.1.2.2.2.2.2.2.2.2.2.2.2.2.2.2.2.2.2.2.2.2.2.2.2.2.2.2.2.1 k3_t188 k3_h94
theorem k3_off753_inb : ∀ (i : grid3.Coords) (v584 : BitVec 32) (v590 : BitVec 32) (k3_hw30 : k3_chk30 i v584 v590) (k3_t188 : Fin (k3_t188_loop i v584 v590).trips), ∀ (k3_h94 : k3_cond94 i v584 v590 = 1#1), ∀ a, (k3_off753 i v584 v590 k3_t188) a + S1x16.size a ≤ S256x128.size a := fun i v584 v590 k3_hw30 k3_t188 k3_h94 => k3_hw30.1.2.2.2.2.2.2.2.2.2.2.2.2.2.2.2.2.2.2.2.2.2.2.2.2.2.2.2.2.1 k3_t188 k3_h94
theorem k3_off754_inb : ∀ (i : grid3.Coords) (v584 : BitVec 32) (v590 : BitVec 32) (k3_hw30 : k3_chk30 i v584 v590) (k3_t188 : Fin (k3_t188_loop i v584 v590).trips), ∀ (k3_h94 : k3_cond94 i v584 v590 = 1#1), ∀ a, (k3_off754 i v584 v590 k3_t188) a + S1x16.size a ≤ S256x128.size a := fun i v584 v590 k3_hw30 k3_t188 k3_h94 => k3_hw30.1.2.2.2.2.2.2.2.2.2.2.2.2.2.2.2.2.2.2.2.2.2.2.2.2.2.2.2.2.2.1 k3_t188 k3_h94
theorem k3_t251_ok : ∀ (i : grid3.Coords) (v584 : BitVec 32) (v590 : BitVec 32) (k3_hw30 : k3_chk30 i v584 v590), ∀ (k3_h126 : k3_cond126 i v584 v590 = 1#1), (k3_t251_loop i v584 v590).OK := fun i v584 v590 k3_hw30 k3_h126 => k3_hw30.1.2.2.2.2.2.2.2.2.2.2.2.2.2.2.2.2.2.2.2.2.2.2.2.2.2.2.2.2.2.2.1 k3_h126
theorem k3_off1003_inb : ∀ (i : grid3.Coords) (v584 : BitVec 32) (v590 : BitVec 32) (k3_hw30 : k3_chk30 i v584 v590) (k3_t251 : Fin (k3_t251_loop i v584 v590).trips), ∀ (k3_h126 : k3_cond126 i v584 v590 = 1#1), ∀ a, (k3_off1003 i v584 v590 k3_t251) a + S1x16.size a ≤ S256x128.size a := fun i v584 v590 k3_hw30 k3_t251 k3_h126 => k3_hw30.1.2.2.2.2.2.2.2.2.2.2.2.2.2.2.2.2.2.2.2.2.2.2.2.2.2.2.2.2.2.2.2 k3_t251 k3_h126
theorem k3_off1004_inb : ∀ (i : grid3.Coords) (v584 : BitVec 32) (v590 : BitVec 32) (k3_hw30 : k3_chk30 i v584 v590) (k3_t251 : Fin (k3_t251_loop i v584 v590).trips), ∀ (k3_h126 : k3_cond126 i v584 v590 = 1#1), ∀ a, (k3_off1004 i v584 v590 k3_t251) a + S1x16.size a ≤ S256x128.size a := fun i v584 v590 k3_hw30 k3_t251 k3_h126 => k3_hw30.2.1 k3_t251 k3_h126
theorem k3_off1005_inb : ∀ (i : grid3.Coords) (v584 : BitVec 32) (v590 : BitVec 32) (k3_hw30 : k3_chk30 i v584 v590) (k3_t251 : Fin (k3_t251_loop i v584 v590).trips), ∀ (k3_h126 : k3_cond126 i v584 v590 = 1#1), ∀ a, (k3_off1005 i v584 v590 k3_t251) a + S1x16.size a ≤ S256x128.size a := fun i v584 v590 k3_hw30 k3_t251 k3_h126 => k3_hw30.2.2.1 k3_t251 k3_h126
theorem k3_off1006_inb : ∀ (i : grid3.Coords) (v584 : BitVec 32) (v590 : BitVec 32) (k3_hw30 : k3_chk30 i v584 v590) (k3_t251 : Fin (k3_t251_loop i v584 v590).trips), ∀ (k3_h126 : k3_cond126 i v584 v590 = 1#1), ∀ a, (k3_off1006 i v584 v590 k3_t251) a + S1x16.size a ≤ S256x128.size a := fun i v584 v590 k3_hw30 k3_t251 k3_h126 => k3_hw30.2.2.2.1 k3_t251 k3_h126
theorem k3_t252_ok : ∀ (i : grid3.Coords) (v584 : BitVec 32) (v590 : BitVec 32) (k3_hw30 : k3_chk30 i v584 v590), ∀ (k3_h126 : k3_cond126 i v584 v590 = 1#1), (k3_t252_loop i v584 v590).OK := fun i v584 v590 k3_hw30 k3_h126 => k3_hw30.2.2.2.2.1 k3_h126
theorem k3_off1007_inb : ∀ (i : grid3.Coords) (v584 : BitVec 32) (v590 : BitVec 32) (k3_hw30 : k3_chk30 i v584 v590) (k3_t252 : Fin (k3_t252_loop i v584 v590).trips), ∀ (k3_h126 : k3_cond126 i v584 v590 = 1#1), ∀ a, (k3_off1007 i v584 v590 k3_t252) a + S1x16.size a ≤ S256x128.size a := fun i v584 v590 k3_hw30 k3_t252 k3_h126 => k3_hw30.2.2.2.2.2.1 k3_t252 k3_h126
theorem k3_off1008_inb : ∀ (i : grid3.Coords) (v584 : BitVec 32) (v590 : BitVec 32) (k3_hw30 : k3_chk30 i v584 v590) (k3_t252 : Fin (k3_t252_loop i v584 v590).trips), ∀ (k3_h126 : k3_cond126 i v584 v590 = 1#1), ∀ a, (k3_off1008 i v584 v590 k3_t252) a + S1x16.size a ≤ S256x128.size a := fun i v584 v590 k3_hw30 k3_t252 k3_h126 => k3_hw30.2.2.2.2.2.2.1 k3_t252 k3_h126
theorem k3_off1009_inb : ∀ (i : grid3.Coords) (v584 : BitVec 32) (v590 : BitVec 32) (k3_hw30 : k3_chk30 i v584 v590) (k3_t252 : Fin (k3_t252_loop i v584 v590).trips), ∀ (k3_h126 : k3_cond126 i v584 v590 = 1#1), ∀ a, (k3_off1009 i v584 v590 k3_t252) a + S1x16.size a ≤ S256x128.size a := fun i v584 v590 k3_hw30 k3_t252 k3_h126 => k3_hw30.2.2.2.2.2.2.2.1 k3_t252 k3_h126
theorem k3_off1010_inb : ∀ (i : grid3.Coords) (v584 : BitVec 32) (v590 : BitVec 32) (k3_hw30 : k3_chk30 i v584 v590) (k3_t252 : Fin (k3_t252_loop i v584 v590).trips), ∀ (k3_h126 : k3_cond126 i v584 v590 = 1#1), ∀ a, (k3_off1010 i v584 v590 k3_t252) a + S1x16.size a ≤ S256x128.size a := fun i v584 v590 k3_hw30 k3_t252 k3_h126 => k3_hw30.2.2.2.2.2.2.2.2 k3_t252 k3_h126

@[reducible] def k3_t253_loop (i : grid3.Coords) (v596 : BitVec 32) (v601 : BitVec 32) : Scf.Loop 32 :=
  let c256_i32_1175 : BitVec 32 := 256#32
  let c0_i32_1174 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let c256_i32_1178 : BitVec 32 := 256#32
  let c0_i32_1177 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c768_i32_1176 : BitVec 32 := 768#32
  let v1778 : BitVec 32 := Scalar.subi v604 c768_i32_1176
  let v1779 : BitVec 32 := Scalar.maxsi c0_i32_1177 v1778
  let v1780 : BitVec 32 := Scalar.minsi c256_i32_1178 v1779
  let v1805 : BitVec 32 := Scalar.subi v1780 v1777
  let c1_i32_1195 : BitVec 32 := 1#32
  let v1807 : BitVec 32 := Scalar.divsi v1805 c1_i32_1195
  let v1808 : BitVec 32 := Scalar.muli v1807 c1_i32_1195
  let v1809 : BitVec 32 := Scalar.addi v1777 v1808
  let c1_i32_1196 : BitVec 32 := 1#32
  ⟨v1777, v1809, c1_i32_1196⟩
def k3_cond127 (i : grid3.Coords) (v596 : BitVec 32) (v601 : BitVec 32) : BitVec 1 :=
  let c256_i32_1178 : BitVec 32 := 256#32
  let c0_i32_1177 : BitVec 32 := 0#32
  let c1024_i32_263 : BitVec 32 := 1024#32
  let c0_i32_262 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v602 : BitVec 32 := Scalar.subi v601 v3
  let v603 : BitVec 32 := Scalar.maxsi c0_i32_262 v602
  let v604 : BitVec 32 := Scalar.minsi c1024_i32_263 v603
  let c768_i32_1176 : BitVec 32 := 768#32
  let v1778 : BitVec 32 := Scalar.subi v604 c768_i32_1176
  let v1779 : BitVec 32 := Scalar.maxsi c0_i32_1177 v1778
  let v1780 : BitVec 32 := Scalar.minsi c256_i32_1178 v1779
  let c256_i32_1175 : BitVec 32 := 256#32
  let c0_i32_1174 : BitVec 32 := 0#32
  let c1024_i32_261 : BitVec 32 := 1024#32
  let c0_i32_260 : BitVec 32 := 0#32
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let v1781 : BitVec 1 := Scalar.cmpi .sgt v1780 v1777
  let v1782 : BitVec 32 := Scalar.extui v1781
  let c0_i32_1179 : BitVec 32 := 0#32
  let v1783 : BitVec 1 := Scalar.cmpi .ne v1782 c0_i32_1179
  v1783

def k3_off1011 (i : grid3.Coords) (v596 : BitVec 32) (v601 : BitVec 32) (k3_t253 : Fin (k3_t253_loop i v596 v601).trips) : Fin 2 → Nat :=
  let c256_i32_1175 : BitVec 32 := 256#32
  let c0_i32_1174 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let c1_i32_1196 : BitVec 32 := 1#32
  let arg13 : BitVec 32 := Scf.iv v1777 c1_i32_1196 k3_t253
  let v1828 : Index := Scalar.indexCast arg13
  let c0_1206 : Index := 0#32
  ![v1828.toNat, 0]
def k3_off1012 (i : grid3.Coords) (v596 : BitVec 32) (v601 : BitVec 32) (k3_t253 : Fin (k3_t253_loop i v596 v601).trips) : Fin 2 → Nat :=
  let c256_i32_1175 : BitVec 32 := 256#32
  let c0_i32_1174 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let c1_i32_1196 : BitVec 32 := 1#32
  let arg13 : BitVec 32 := Scf.iv v1777 c1_i32_1196 k3_t253
  let v1832 : Index := Scalar.indexCast arg13
  let c16_1207 : Index := 16#32
  ![v1832.toNat, 16]
def k3_off1013 (i : grid3.Coords) (v596 : BitVec 32) (v601 : BitVec 32) (k3_t253 : Fin (k3_t253_loop i v596 v601).trips) : Fin 2 → Nat :=
  let c256_i32_1175 : BitVec 32 := 256#32
  let c0_i32_1174 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let c1_i32_1196 : BitVec 32 := 1#32
  let arg13 : BitVec 32 := Scf.iv v1777 c1_i32_1196 k3_t253
  let v1836 : Index := Scalar.indexCast arg13
  let c32_1208 : Index := 32#32
  ![v1836.toNat, 32]
def k3_off1014 (i : grid3.Coords) (v596 : BitVec 32) (v601 : BitVec 32) (k3_t253 : Fin (k3_t253_loop i v596 v601).trips) : Fin 2 → Nat :=
  let c256_i32_1175 : BitVec 32 := 256#32
  let c0_i32_1174 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let c1_i32_1196 : BitVec 32 := 1#32
  let arg13 : BitVec 32 := Scf.iv v1777 c1_i32_1196 k3_t253
  let v1840 : Index := Scalar.indexCast arg13
  let c48_1209 : Index := 48#32
  ![v1840.toNat, 48]
@[reducible] def k3_t254_loop (i : grid3.Coords) (v596 : BitVec 32) (v601 : BitVec 32) : Scf.Loop 32 :=
  let c256_i32_1175 : BitVec 32 := 256#32
  let c0_i32_1174 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let c256_i32_1178 : BitVec 32 := 256#32
  let c0_i32_1177 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c768_i32_1176 : BitVec 32 := 768#32
  let v1778 : BitVec 32 := Scalar.subi v604 c768_i32_1176
  let v1779 : BitVec 32 := Scalar.maxsi c0_i32_1177 v1778
  let v1780 : BitVec 32 := Scalar.minsi c256_i32_1178 v1779
  let v1805 : BitVec 32 := Scalar.subi v1780 v1777
  let c1_i32_1195 : BitVec 32 := 1#32
  let v1807 : BitVec 32 := Scalar.divsi v1805 c1_i32_1195
  let v1808 : BitVec 32 := Scalar.muli v1807 c1_i32_1195
  let v1809 : BitVec 32 := Scalar.addi v1777 v1808
  let v1806 : BitVec 32 := Scalar.addi v1777 v1805
  let c1_i32_1197 : BitVec 32 := 1#32
  ⟨v1809, v1806, c1_i32_1197⟩
def k3_off1015 (i : grid3.Coords) (v596 : BitVec 32) (v601 : BitVec 32) (k3_t254 : Fin (k3_t254_loop i v596 v601).trips) : Fin 2 → Nat :=
  let c256_i32_1175 : BitVec 32 := 256#32
  let c0_i32_1174 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let c256_i32_1178 : BitVec 32 := 256#32
  let c0_i32_1177 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c768_i32_1176 : BitVec 32 := 768#32
  let v1778 : BitVec 32 := Scalar.subi v604 c768_i32_1176
  let v1779 : BitVec 32 := Scalar.maxsi c0_i32_1177 v1778
  let v1780 : BitVec 32 := Scalar.minsi c256_i32_1178 v1779
  let v1805 : BitVec 32 := Scalar.subi v1780 v1777
  let c1_i32_1195 : BitVec 32 := 1#32
  let v1807 : BitVec 32 := Scalar.divsi v1805 c1_i32_1195
  let v1808 : BitVec 32 := Scalar.muli v1807 c1_i32_1195
  let v1809 : BitVec 32 := Scalar.addi v1777 v1808
  let c1_i32_1197 : BitVec 32 := 1#32
  let arg13 : BitVec 32 := Scf.iv v1809 c1_i32_1197 k3_t254
  let v1828 : Index := Scalar.indexCast arg13
  let c0_1206 : Index := 0#32
  ![v1828.toNat, 0]
def k3_off1016 (i : grid3.Coords) (v596 : BitVec 32) (v601 : BitVec 32) (k3_t254 : Fin (k3_t254_loop i v596 v601).trips) : Fin 2 → Nat :=
  let c256_i32_1175 : BitVec 32 := 256#32
  let c0_i32_1174 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let c256_i32_1178 : BitVec 32 := 256#32
  let c0_i32_1177 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c768_i32_1176 : BitVec 32 := 768#32
  let v1778 : BitVec 32 := Scalar.subi v604 c768_i32_1176
  let v1779 : BitVec 32 := Scalar.maxsi c0_i32_1177 v1778
  let v1780 : BitVec 32 := Scalar.minsi c256_i32_1178 v1779
  let v1805 : BitVec 32 := Scalar.subi v1780 v1777
  let c1_i32_1195 : BitVec 32 := 1#32
  let v1807 : BitVec 32 := Scalar.divsi v1805 c1_i32_1195
  let v1808 : BitVec 32 := Scalar.muli v1807 c1_i32_1195
  let v1809 : BitVec 32 := Scalar.addi v1777 v1808
  let c1_i32_1197 : BitVec 32 := 1#32
  let arg13 : BitVec 32 := Scf.iv v1809 c1_i32_1197 k3_t254
  let v1832 : Index := Scalar.indexCast arg13
  let c16_1207 : Index := 16#32
  ![v1832.toNat, 16]
def k3_off1017 (i : grid3.Coords) (v596 : BitVec 32) (v601 : BitVec 32) (k3_t254 : Fin (k3_t254_loop i v596 v601).trips) : Fin 2 → Nat :=
  let c256_i32_1175 : BitVec 32 := 256#32
  let c0_i32_1174 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let c256_i32_1178 : BitVec 32 := 256#32
  let c0_i32_1177 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c768_i32_1176 : BitVec 32 := 768#32
  let v1778 : BitVec 32 := Scalar.subi v604 c768_i32_1176
  let v1779 : BitVec 32 := Scalar.maxsi c0_i32_1177 v1778
  let v1780 : BitVec 32 := Scalar.minsi c256_i32_1178 v1779
  let v1805 : BitVec 32 := Scalar.subi v1780 v1777
  let c1_i32_1195 : BitVec 32 := 1#32
  let v1807 : BitVec 32 := Scalar.divsi v1805 c1_i32_1195
  let v1808 : BitVec 32 := Scalar.muli v1807 c1_i32_1195
  let v1809 : BitVec 32 := Scalar.addi v1777 v1808
  let c1_i32_1197 : BitVec 32 := 1#32
  let arg13 : BitVec 32 := Scf.iv v1809 c1_i32_1197 k3_t254
  let v1836 : Index := Scalar.indexCast arg13
  let c32_1208 : Index := 32#32
  ![v1836.toNat, 32]
def k3_off1018 (i : grid3.Coords) (v596 : BitVec 32) (v601 : BitVec 32) (k3_t254 : Fin (k3_t254_loop i v596 v601).trips) : Fin 2 → Nat :=
  let c256_i32_1175 : BitVec 32 := 256#32
  let c0_i32_1174 : BitVec 32 := 0#32
  let c1024_i32_261 : BitVec 32 := 1024#32
  let c0_i32_260 : BitVec 32 := 0#32
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v597 : BitVec 32 := Scalar.subi v596 v3
  let v598 : BitVec 32 := Scalar.maxsi c0_i32_260 v597
  let v599 : BitVec 32 := Scalar.minsi c1024_i32_261 v598
  let c768_i32_1173 : BitVec 32 := 768#32
  let v1775 : BitVec 32 := Scalar.subi v599 c768_i32_1173
  let v1776 : BitVec 32 := Scalar.maxsi c0_i32_1174 v1775
  let v1777 : BitVec 32 := Scalar.minsi c256_i32_1175 v1776
  let c256_i32_1178 : BitVec 32 := 256#32
  let c0_i32_1177 : BitVec 32 := 0#32
  let c1024_i32_263 : BitVec 32 := 1024#32
  let c0_i32_262 : BitVec 32 := 0#32
  let v602 : BitVec 32 := Scalar.subi v601 v3
  let v603 : BitVec 32 := Scalar.maxsi c0_i32_262 v602
  let v604 : BitVec 32 := Scalar.minsi c1024_i32_263 v603
  let c768_i32_1176 : BitVec 32 := 768#32
  let v1778 : BitVec 32 := Scalar.subi v604 c768_i32_1176
  let v1779 : BitVec 32 := Scalar.maxsi c0_i32_1177 v1778
  let v1780 : BitVec 32 := Scalar.minsi c256_i32_1178 v1779
  let v1805 : BitVec 32 := Scalar.subi v1780 v1777
  let c1_i32_1195 : BitVec 32 := 1#32
  let v1807 : BitVec 32 := Scalar.divsi v1805 c1_i32_1195
  let v1808 : BitVec 32 := Scalar.muli v1807 c1_i32_1195
  let v1809 : BitVec 32 := Scalar.addi v1777 v1808
  let c1_i32_1197 : BitVec 32 := 1#32
  let arg13 : BitVec 32 := Scf.iv v1809 c1_i32_1197 k3_t254
  let v1840 : Index := Scalar.indexCast arg13
  let c48_1209 : Index := 48#32
  ![v1840.toNat, 48]

def k3_chk31_0 (i : grid3.Coords) (v596 : BitVec 32) (v601 : BitVec 32) : Prop :=
  (∀ (k3_h31 : k3_cond31 i v596 v601 = 1#1), (k3_t61_loop i v596 v601).OK) ∧
  (∀ k3_t61 : Fin (k3_t61_loop i v596 v601).trips, ∀ (k3_h31 : k3_cond31 i v596 v601 = 1#1), ∀ a, (k3_off242 i v596 v601 k3_t61) a + S1x16.size a ≤ S256x128.size a) ∧
  (∀ k3_t61 : Fin (k3_t61_loop i v596 v601).trips, ∀ (k3_h31 : k3_cond31 i v596 v601 = 1#1), ∀ a, (k3_off243 i v596 v601 k3_t61) a + S1x16.size a ≤ S256x128.size a) ∧
  (∀ k3_t61 : Fin (k3_t61_loop i v596 v601).trips, ∀ (k3_h31 : k3_cond31 i v596 v601 = 1#1), ∀ a, (k3_off244 i v596 v601 k3_t61) a + S1x16.size a ≤ S256x128.size a) ∧
  (∀ k3_t61 : Fin (k3_t61_loop i v596 v601).trips, ∀ (k3_h31 : k3_cond31 i v596 v601 = 1#1), ∀ a, (k3_off245 i v596 v601 k3_t61) a + S1x16.size a ≤ S256x128.size a) ∧
  (∀ (k3_h31 : k3_cond31 i v596 v601 = 1#1), (k3_t62_loop i v596 v601).OK) ∧
  (∀ k3_t62 : Fin (k3_t62_loop i v596 v601).trips, ∀ (k3_h31 : k3_cond31 i v596 v601 = 1#1), ∀ a, (k3_off246 i v596 v601 k3_t62) a + S1x16.size a ≤ S256x128.size a) ∧
  (∀ k3_t62 : Fin (k3_t62_loop i v596 v601).trips, ∀ (k3_h31 : k3_cond31 i v596 v601 = 1#1), ∀ a, (k3_off247 i v596 v601 k3_t62) a + S1x16.size a ≤ S256x128.size a) ∧
  (∀ k3_t62 : Fin (k3_t62_loop i v596 v601).trips, ∀ (k3_h31 : k3_cond31 i v596 v601 = 1#1), ∀ a, (k3_off248 i v596 v601 k3_t62) a + S1x16.size a ≤ S256x128.size a) ∧
  (∀ k3_t62 : Fin (k3_t62_loop i v596 v601).trips, ∀ (k3_h31 : k3_cond31 i v596 v601 = 1#1), ∀ a, (k3_off249 i v596 v601 k3_t62) a + S1x16.size a ≤ S256x128.size a) ∧
  (∀ (k3_h63 : k3_cond63 i v596 v601 = 1#1), (k3_t125_loop i v596 v601).OK) ∧
  (∀ k3_t125 : Fin (k3_t125_loop i v596 v601).trips, ∀ (k3_h63 : k3_cond63 i v596 v601 = 1#1), ∀ a, (k3_off499 i v596 v601 k3_t125) a + S1x16.size a ≤ S256x128.size a) ∧
  (∀ k3_t125 : Fin (k3_t125_loop i v596 v601).trips, ∀ (k3_h63 : k3_cond63 i v596 v601 = 1#1), ∀ a, (k3_off500 i v596 v601 k3_t125) a + S1x16.size a ≤ S256x128.size a) ∧
  (∀ k3_t125 : Fin (k3_t125_loop i v596 v601).trips, ∀ (k3_h63 : k3_cond63 i v596 v601 = 1#1), ∀ a, (k3_off501 i v596 v601 k3_t125) a + S1x16.size a ≤ S256x128.size a) ∧
  (∀ k3_t125 : Fin (k3_t125_loop i v596 v601).trips, ∀ (k3_h63 : k3_cond63 i v596 v601 = 1#1), ∀ a, (k3_off502 i v596 v601 k3_t125) a + S1x16.size a ≤ S256x128.size a) ∧
  (∀ (k3_h63 : k3_cond63 i v596 v601 = 1#1), (k3_t126_loop i v596 v601).OK) ∧
  (∀ k3_t126 : Fin (k3_t126_loop i v596 v601).trips, ∀ (k3_h63 : k3_cond63 i v596 v601 = 1#1), ∀ a, (k3_off503 i v596 v601 k3_t126) a + S1x16.size a ≤ S256x128.size a) ∧
  (∀ k3_t126 : Fin (k3_t126_loop i v596 v601).trips, ∀ (k3_h63 : k3_cond63 i v596 v601 = 1#1), ∀ a, (k3_off504 i v596 v601 k3_t126) a + S1x16.size a ≤ S256x128.size a) ∧
  (∀ k3_t126 : Fin (k3_t126_loop i v596 v601).trips, ∀ (k3_h63 : k3_cond63 i v596 v601 = 1#1), ∀ a, (k3_off505 i v596 v601 k3_t126) a + S1x16.size a ≤ S256x128.size a) ∧
  (∀ k3_t126 : Fin (k3_t126_loop i v596 v601).trips, ∀ (k3_h63 : k3_cond63 i v596 v601 = 1#1), ∀ a, (k3_off506 i v596 v601 k3_t126) a + S1x16.size a ≤ S256x128.size a) ∧
  (∀ (k3_h95 : k3_cond95 i v596 v601 = 1#1), (k3_t189_loop i v596 v601).OK) ∧
  (∀ k3_t189 : Fin (k3_t189_loop i v596 v601).trips, ∀ (k3_h95 : k3_cond95 i v596 v601 = 1#1), ∀ a, (k3_off755 i v596 v601 k3_t189) a + S1x16.size a ≤ S256x128.size a) ∧
  (∀ k3_t189 : Fin (k3_t189_loop i v596 v601).trips, ∀ (k3_h95 : k3_cond95 i v596 v601 = 1#1), ∀ a, (k3_off756 i v596 v601 k3_t189) a + S1x16.size a ≤ S256x128.size a) ∧
  (∀ k3_t189 : Fin (k3_t189_loop i v596 v601).trips, ∀ (k3_h95 : k3_cond95 i v596 v601 = 1#1), ∀ a, (k3_off757 i v596 v601 k3_t189) a + S1x16.size a ≤ S256x128.size a) ∧
  (∀ k3_t189 : Fin (k3_t189_loop i v596 v601).trips, ∀ (k3_h95 : k3_cond95 i v596 v601 = 1#1), ∀ a, (k3_off758 i v596 v601 k3_t189) a + S1x16.size a ≤ S256x128.size a) ∧
  (∀ (k3_h95 : k3_cond95 i v596 v601 = 1#1), (k3_t190_loop i v596 v601).OK) ∧
  (∀ k3_t190 : Fin (k3_t190_loop i v596 v601).trips, ∀ (k3_h95 : k3_cond95 i v596 v601 = 1#1), ∀ a, (k3_off759 i v596 v601 k3_t190) a + S1x16.size a ≤ S256x128.size a) ∧
  (∀ k3_t190 : Fin (k3_t190_loop i v596 v601).trips, ∀ (k3_h95 : k3_cond95 i v596 v601 = 1#1), ∀ a, (k3_off760 i v596 v601 k3_t190) a + S1x16.size a ≤ S256x128.size a) ∧
  (∀ k3_t190 : Fin (k3_t190_loop i v596 v601).trips, ∀ (k3_h95 : k3_cond95 i v596 v601 = 1#1), ∀ a, (k3_off761 i v596 v601 k3_t190) a + S1x16.size a ≤ S256x128.size a) ∧
  (∀ k3_t190 : Fin (k3_t190_loop i v596 v601).trips, ∀ (k3_h95 : k3_cond95 i v596 v601 = 1#1), ∀ a, (k3_off762 i v596 v601 k3_t190) a + S1x16.size a ≤ S256x128.size a) ∧
  (∀ (k3_h127 : k3_cond127 i v596 v601 = 1#1), (k3_t253_loop i v596 v601).OK) ∧
  (∀ k3_t253 : Fin (k3_t253_loop i v596 v601).trips, ∀ (k3_h127 : k3_cond127 i v596 v601 = 1#1), ∀ a, (k3_off1011 i v596 v601 k3_t253) a + S1x16.size a ≤ S256x128.size a)
def k3_chk31_1 (i : grid3.Coords) (v596 : BitVec 32) (v601 : BitVec 32) : Prop :=
  (∀ k3_t253 : Fin (k3_t253_loop i v596 v601).trips, ∀ (k3_h127 : k3_cond127 i v596 v601 = 1#1), ∀ a, (k3_off1012 i v596 v601 k3_t253) a + S1x16.size a ≤ S256x128.size a) ∧
  (∀ k3_t253 : Fin (k3_t253_loop i v596 v601).trips, ∀ (k3_h127 : k3_cond127 i v596 v601 = 1#1), ∀ a, (k3_off1013 i v596 v601 k3_t253) a + S1x16.size a ≤ S256x128.size a) ∧
  (∀ k3_t253 : Fin (k3_t253_loop i v596 v601).trips, ∀ (k3_h127 : k3_cond127 i v596 v601 = 1#1), ∀ a, (k3_off1014 i v596 v601 k3_t253) a + S1x16.size a ≤ S256x128.size a) ∧
  (∀ (k3_h127 : k3_cond127 i v596 v601 = 1#1), (k3_t254_loop i v596 v601).OK) ∧
  (∀ k3_t254 : Fin (k3_t254_loop i v596 v601).trips, ∀ (k3_h127 : k3_cond127 i v596 v601 = 1#1), ∀ a, (k3_off1015 i v596 v601 k3_t254) a + S1x16.size a ≤ S256x128.size a) ∧
  (∀ k3_t254 : Fin (k3_t254_loop i v596 v601).trips, ∀ (k3_h127 : k3_cond127 i v596 v601 = 1#1), ∀ a, (k3_off1016 i v596 v601 k3_t254) a + S1x16.size a ≤ S256x128.size a) ∧
  (∀ k3_t254 : Fin (k3_t254_loop i v596 v601).trips, ∀ (k3_h127 : k3_cond127 i v596 v601 = 1#1), ∀ a, (k3_off1017 i v596 v601 k3_t254) a + S1x16.size a ≤ S256x128.size a) ∧
  (∀ k3_t254 : Fin (k3_t254_loop i v596 v601).trips, ∀ (k3_h127 : k3_cond127 i v596 v601 = 1#1), ∀ a, (k3_off1018 i v596 v601 k3_t254) a + S1x16.size a ≤ S256x128.size a)
def k3_chk31 (i : grid3.Coords) (v596 : BitVec 32) (v601 : BitVec 32) : Prop :=
  k3_chk31_0 i v596 v601 ∧
  k3_chk31_1 i v596 v601
theorem k3_t61_ok : ∀ (i : grid3.Coords) (v596 : BitVec 32) (v601 : BitVec 32) (k3_hw31 : k3_chk31 i v596 v601), ∀ (k3_h31 : k3_cond31 i v596 v601 = 1#1), (k3_t61_loop i v596 v601).OK := fun i v596 v601 k3_hw31 k3_h31 => k3_hw31.1.1 k3_h31
theorem k3_off242_inb : ∀ (i : grid3.Coords) (v596 : BitVec 32) (v601 : BitVec 32) (k3_hw31 : k3_chk31 i v596 v601) (k3_t61 : Fin (k3_t61_loop i v596 v601).trips), ∀ (k3_h31 : k3_cond31 i v596 v601 = 1#1), ∀ a, (k3_off242 i v596 v601 k3_t61) a + S1x16.size a ≤ S256x128.size a := fun i v596 v601 k3_hw31 k3_t61 k3_h31 => k3_hw31.1.2.1 k3_t61 k3_h31
theorem k3_off243_inb : ∀ (i : grid3.Coords) (v596 : BitVec 32) (v601 : BitVec 32) (k3_hw31 : k3_chk31 i v596 v601) (k3_t61 : Fin (k3_t61_loop i v596 v601).trips), ∀ (k3_h31 : k3_cond31 i v596 v601 = 1#1), ∀ a, (k3_off243 i v596 v601 k3_t61) a + S1x16.size a ≤ S256x128.size a := fun i v596 v601 k3_hw31 k3_t61 k3_h31 => k3_hw31.1.2.2.1 k3_t61 k3_h31
theorem k3_off244_inb : ∀ (i : grid3.Coords) (v596 : BitVec 32) (v601 : BitVec 32) (k3_hw31 : k3_chk31 i v596 v601) (k3_t61 : Fin (k3_t61_loop i v596 v601).trips), ∀ (k3_h31 : k3_cond31 i v596 v601 = 1#1), ∀ a, (k3_off244 i v596 v601 k3_t61) a + S1x16.size a ≤ S256x128.size a := fun i v596 v601 k3_hw31 k3_t61 k3_h31 => k3_hw31.1.2.2.2.1 k3_t61 k3_h31
theorem k3_off245_inb : ∀ (i : grid3.Coords) (v596 : BitVec 32) (v601 : BitVec 32) (k3_hw31 : k3_chk31 i v596 v601) (k3_t61 : Fin (k3_t61_loop i v596 v601).trips), ∀ (k3_h31 : k3_cond31 i v596 v601 = 1#1), ∀ a, (k3_off245 i v596 v601 k3_t61) a + S1x16.size a ≤ S256x128.size a := fun i v596 v601 k3_hw31 k3_t61 k3_h31 => k3_hw31.1.2.2.2.2.1 k3_t61 k3_h31
theorem k3_t62_ok : ∀ (i : grid3.Coords) (v596 : BitVec 32) (v601 : BitVec 32) (k3_hw31 : k3_chk31 i v596 v601), ∀ (k3_h31 : k3_cond31 i v596 v601 = 1#1), (k3_t62_loop i v596 v601).OK := fun i v596 v601 k3_hw31 k3_h31 => k3_hw31.1.2.2.2.2.2.1 k3_h31
theorem k3_off246_inb : ∀ (i : grid3.Coords) (v596 : BitVec 32) (v601 : BitVec 32) (k3_hw31 : k3_chk31 i v596 v601) (k3_t62 : Fin (k3_t62_loop i v596 v601).trips), ∀ (k3_h31 : k3_cond31 i v596 v601 = 1#1), ∀ a, (k3_off246 i v596 v601 k3_t62) a + S1x16.size a ≤ S256x128.size a := fun i v596 v601 k3_hw31 k3_t62 k3_h31 => k3_hw31.1.2.2.2.2.2.2.1 k3_t62 k3_h31
theorem k3_off247_inb : ∀ (i : grid3.Coords) (v596 : BitVec 32) (v601 : BitVec 32) (k3_hw31 : k3_chk31 i v596 v601) (k3_t62 : Fin (k3_t62_loop i v596 v601).trips), ∀ (k3_h31 : k3_cond31 i v596 v601 = 1#1), ∀ a, (k3_off247 i v596 v601 k3_t62) a + S1x16.size a ≤ S256x128.size a := fun i v596 v601 k3_hw31 k3_t62 k3_h31 => k3_hw31.1.2.2.2.2.2.2.2.1 k3_t62 k3_h31
theorem k3_off248_inb : ∀ (i : grid3.Coords) (v596 : BitVec 32) (v601 : BitVec 32) (k3_hw31 : k3_chk31 i v596 v601) (k3_t62 : Fin (k3_t62_loop i v596 v601).trips), ∀ (k3_h31 : k3_cond31 i v596 v601 = 1#1), ∀ a, (k3_off248 i v596 v601 k3_t62) a + S1x16.size a ≤ S256x128.size a := fun i v596 v601 k3_hw31 k3_t62 k3_h31 => k3_hw31.1.2.2.2.2.2.2.2.2.1 k3_t62 k3_h31
theorem k3_off249_inb : ∀ (i : grid3.Coords) (v596 : BitVec 32) (v601 : BitVec 32) (k3_hw31 : k3_chk31 i v596 v601) (k3_t62 : Fin (k3_t62_loop i v596 v601).trips), ∀ (k3_h31 : k3_cond31 i v596 v601 = 1#1), ∀ a, (k3_off249 i v596 v601 k3_t62) a + S1x16.size a ≤ S256x128.size a := fun i v596 v601 k3_hw31 k3_t62 k3_h31 => k3_hw31.1.2.2.2.2.2.2.2.2.2.1 k3_t62 k3_h31
theorem k3_t125_ok : ∀ (i : grid3.Coords) (v596 : BitVec 32) (v601 : BitVec 32) (k3_hw31 : k3_chk31 i v596 v601), ∀ (k3_h63 : k3_cond63 i v596 v601 = 1#1), (k3_t125_loop i v596 v601).OK := fun i v596 v601 k3_hw31 k3_h63 => k3_hw31.1.2.2.2.2.2.2.2.2.2.2.1 k3_h63
theorem k3_off499_inb : ∀ (i : grid3.Coords) (v596 : BitVec 32) (v601 : BitVec 32) (k3_hw31 : k3_chk31 i v596 v601) (k3_t125 : Fin (k3_t125_loop i v596 v601).trips), ∀ (k3_h63 : k3_cond63 i v596 v601 = 1#1), ∀ a, (k3_off499 i v596 v601 k3_t125) a + S1x16.size a ≤ S256x128.size a := fun i v596 v601 k3_hw31 k3_t125 k3_h63 => k3_hw31.1.2.2.2.2.2.2.2.2.2.2.2.1 k3_t125 k3_h63
theorem k3_off500_inb : ∀ (i : grid3.Coords) (v596 : BitVec 32) (v601 : BitVec 32) (k3_hw31 : k3_chk31 i v596 v601) (k3_t125 : Fin (k3_t125_loop i v596 v601).trips), ∀ (k3_h63 : k3_cond63 i v596 v601 = 1#1), ∀ a, (k3_off500 i v596 v601 k3_t125) a + S1x16.size a ≤ S256x128.size a := fun i v596 v601 k3_hw31 k3_t125 k3_h63 => k3_hw31.1.2.2.2.2.2.2.2.2.2.2.2.2.1 k3_t125 k3_h63
theorem k3_off501_inb : ∀ (i : grid3.Coords) (v596 : BitVec 32) (v601 : BitVec 32) (k3_hw31 : k3_chk31 i v596 v601) (k3_t125 : Fin (k3_t125_loop i v596 v601).trips), ∀ (k3_h63 : k3_cond63 i v596 v601 = 1#1), ∀ a, (k3_off501 i v596 v601 k3_t125) a + S1x16.size a ≤ S256x128.size a := fun i v596 v601 k3_hw31 k3_t125 k3_h63 => k3_hw31.1.2.2.2.2.2.2.2.2.2.2.2.2.2.1 k3_t125 k3_h63
theorem k3_off502_inb : ∀ (i : grid3.Coords) (v596 : BitVec 32) (v601 : BitVec 32) (k3_hw31 : k3_chk31 i v596 v601) (k3_t125 : Fin (k3_t125_loop i v596 v601).trips), ∀ (k3_h63 : k3_cond63 i v596 v601 = 1#1), ∀ a, (k3_off502 i v596 v601 k3_t125) a + S1x16.size a ≤ S256x128.size a := fun i v596 v601 k3_hw31 k3_t125 k3_h63 => k3_hw31.1.2.2.2.2.2.2.2.2.2.2.2.2.2.2.1 k3_t125 k3_h63
theorem k3_t126_ok : ∀ (i : grid3.Coords) (v596 : BitVec 32) (v601 : BitVec 32) (k3_hw31 : k3_chk31 i v596 v601), ∀ (k3_h63 : k3_cond63 i v596 v601 = 1#1), (k3_t126_loop i v596 v601).OK := fun i v596 v601 k3_hw31 k3_h63 => k3_hw31.1.2.2.2.2.2.2.2.2.2.2.2.2.2.2.2.1 k3_h63
theorem k3_off503_inb : ∀ (i : grid3.Coords) (v596 : BitVec 32) (v601 : BitVec 32) (k3_hw31 : k3_chk31 i v596 v601) (k3_t126 : Fin (k3_t126_loop i v596 v601).trips), ∀ (k3_h63 : k3_cond63 i v596 v601 = 1#1), ∀ a, (k3_off503 i v596 v601 k3_t126) a + S1x16.size a ≤ S256x128.size a := fun i v596 v601 k3_hw31 k3_t126 k3_h63 => k3_hw31.1.2.2.2.2.2.2.2.2.2.2.2.2.2.2.2.2.1 k3_t126 k3_h63
theorem k3_off504_inb : ∀ (i : grid3.Coords) (v596 : BitVec 32) (v601 : BitVec 32) (k3_hw31 : k3_chk31 i v596 v601) (k3_t126 : Fin (k3_t126_loop i v596 v601).trips), ∀ (k3_h63 : k3_cond63 i v596 v601 = 1#1), ∀ a, (k3_off504 i v596 v601 k3_t126) a + S1x16.size a ≤ S256x128.size a := fun i v596 v601 k3_hw31 k3_t126 k3_h63 => k3_hw31.1.2.2.2.2.2.2.2.2.2.2.2.2.2.2.2.2.2.1 k3_t126 k3_h63
theorem k3_off505_inb : ∀ (i : grid3.Coords) (v596 : BitVec 32) (v601 : BitVec 32) (k3_hw31 : k3_chk31 i v596 v601) (k3_t126 : Fin (k3_t126_loop i v596 v601).trips), ∀ (k3_h63 : k3_cond63 i v596 v601 = 1#1), ∀ a, (k3_off505 i v596 v601 k3_t126) a + S1x16.size a ≤ S256x128.size a := fun i v596 v601 k3_hw31 k3_t126 k3_h63 => k3_hw31.1.2.2.2.2.2.2.2.2.2.2.2.2.2.2.2.2.2.2.1 k3_t126 k3_h63
theorem k3_off506_inb : ∀ (i : grid3.Coords) (v596 : BitVec 32) (v601 : BitVec 32) (k3_hw31 : k3_chk31 i v596 v601) (k3_t126 : Fin (k3_t126_loop i v596 v601).trips), ∀ (k3_h63 : k3_cond63 i v596 v601 = 1#1), ∀ a, (k3_off506 i v596 v601 k3_t126) a + S1x16.size a ≤ S256x128.size a := fun i v596 v601 k3_hw31 k3_t126 k3_h63 => k3_hw31.1.2.2.2.2.2.2.2.2.2.2.2.2.2.2.2.2.2.2.2.1 k3_t126 k3_h63
theorem k3_t189_ok : ∀ (i : grid3.Coords) (v596 : BitVec 32) (v601 : BitVec 32) (k3_hw31 : k3_chk31 i v596 v601), ∀ (k3_h95 : k3_cond95 i v596 v601 = 1#1), (k3_t189_loop i v596 v601).OK := fun i v596 v601 k3_hw31 k3_h95 => k3_hw31.1.2.2.2.2.2.2.2.2.2.2.2.2.2.2.2.2.2.2.2.2.1 k3_h95
theorem k3_off755_inb : ∀ (i : grid3.Coords) (v596 : BitVec 32) (v601 : BitVec 32) (k3_hw31 : k3_chk31 i v596 v601) (k3_t189 : Fin (k3_t189_loop i v596 v601).trips), ∀ (k3_h95 : k3_cond95 i v596 v601 = 1#1), ∀ a, (k3_off755 i v596 v601 k3_t189) a + S1x16.size a ≤ S256x128.size a := fun i v596 v601 k3_hw31 k3_t189 k3_h95 => k3_hw31.1.2.2.2.2.2.2.2.2.2.2.2.2.2.2.2.2.2.2.2.2.2.1 k3_t189 k3_h95
theorem k3_off756_inb : ∀ (i : grid3.Coords) (v596 : BitVec 32) (v601 : BitVec 32) (k3_hw31 : k3_chk31 i v596 v601) (k3_t189 : Fin (k3_t189_loop i v596 v601).trips), ∀ (k3_h95 : k3_cond95 i v596 v601 = 1#1), ∀ a, (k3_off756 i v596 v601 k3_t189) a + S1x16.size a ≤ S256x128.size a := fun i v596 v601 k3_hw31 k3_t189 k3_h95 => k3_hw31.1.2.2.2.2.2.2.2.2.2.2.2.2.2.2.2.2.2.2.2.2.2.2.1 k3_t189 k3_h95
theorem k3_off757_inb : ∀ (i : grid3.Coords) (v596 : BitVec 32) (v601 : BitVec 32) (k3_hw31 : k3_chk31 i v596 v601) (k3_t189 : Fin (k3_t189_loop i v596 v601).trips), ∀ (k3_h95 : k3_cond95 i v596 v601 = 1#1), ∀ a, (k3_off757 i v596 v601 k3_t189) a + S1x16.size a ≤ S256x128.size a := fun i v596 v601 k3_hw31 k3_t189 k3_h95 => k3_hw31.1.2.2.2.2.2.2.2.2.2.2.2.2.2.2.2.2.2.2.2.2.2.2.2.1 k3_t189 k3_h95
theorem k3_off758_inb : ∀ (i : grid3.Coords) (v596 : BitVec 32) (v601 : BitVec 32) (k3_hw31 : k3_chk31 i v596 v601) (k3_t189 : Fin (k3_t189_loop i v596 v601).trips), ∀ (k3_h95 : k3_cond95 i v596 v601 = 1#1), ∀ a, (k3_off758 i v596 v601 k3_t189) a + S1x16.size a ≤ S256x128.size a := fun i v596 v601 k3_hw31 k3_t189 k3_h95 => k3_hw31.1.2.2.2.2.2.2.2.2.2.2.2.2.2.2.2.2.2.2.2.2.2.2.2.2.1 k3_t189 k3_h95
theorem k3_t190_ok : ∀ (i : grid3.Coords) (v596 : BitVec 32) (v601 : BitVec 32) (k3_hw31 : k3_chk31 i v596 v601), ∀ (k3_h95 : k3_cond95 i v596 v601 = 1#1), (k3_t190_loop i v596 v601).OK := fun i v596 v601 k3_hw31 k3_h95 => k3_hw31.1.2.2.2.2.2.2.2.2.2.2.2.2.2.2.2.2.2.2.2.2.2.2.2.2.2.1 k3_h95
theorem k3_off759_inb : ∀ (i : grid3.Coords) (v596 : BitVec 32) (v601 : BitVec 32) (k3_hw31 : k3_chk31 i v596 v601) (k3_t190 : Fin (k3_t190_loop i v596 v601).trips), ∀ (k3_h95 : k3_cond95 i v596 v601 = 1#1), ∀ a, (k3_off759 i v596 v601 k3_t190) a + S1x16.size a ≤ S256x128.size a := fun i v596 v601 k3_hw31 k3_t190 k3_h95 => k3_hw31.1.2.2.2.2.2.2.2.2.2.2.2.2.2.2.2.2.2.2.2.2.2.2.2.2.2.2.1 k3_t190 k3_h95
theorem k3_off760_inb : ∀ (i : grid3.Coords) (v596 : BitVec 32) (v601 : BitVec 32) (k3_hw31 : k3_chk31 i v596 v601) (k3_t190 : Fin (k3_t190_loop i v596 v601).trips), ∀ (k3_h95 : k3_cond95 i v596 v601 = 1#1), ∀ a, (k3_off760 i v596 v601 k3_t190) a + S1x16.size a ≤ S256x128.size a := fun i v596 v601 k3_hw31 k3_t190 k3_h95 => k3_hw31.1.2.2.2.2.2.2.2.2.2.2.2.2.2.2.2.2.2.2.2.2.2.2.2.2.2.2.2.1 k3_t190 k3_h95
theorem k3_off761_inb : ∀ (i : grid3.Coords) (v596 : BitVec 32) (v601 : BitVec 32) (k3_hw31 : k3_chk31 i v596 v601) (k3_t190 : Fin (k3_t190_loop i v596 v601).trips), ∀ (k3_h95 : k3_cond95 i v596 v601 = 1#1), ∀ a, (k3_off761 i v596 v601 k3_t190) a + S1x16.size a ≤ S256x128.size a := fun i v596 v601 k3_hw31 k3_t190 k3_h95 => k3_hw31.1.2.2.2.2.2.2.2.2.2.2.2.2.2.2.2.2.2.2.2.2.2.2.2.2.2.2.2.2.1 k3_t190 k3_h95
theorem k3_off762_inb : ∀ (i : grid3.Coords) (v596 : BitVec 32) (v601 : BitVec 32) (k3_hw31 : k3_chk31 i v596 v601) (k3_t190 : Fin (k3_t190_loop i v596 v601).trips), ∀ (k3_h95 : k3_cond95 i v596 v601 = 1#1), ∀ a, (k3_off762 i v596 v601 k3_t190) a + S1x16.size a ≤ S256x128.size a := fun i v596 v601 k3_hw31 k3_t190 k3_h95 => k3_hw31.1.2.2.2.2.2.2.2.2.2.2.2.2.2.2.2.2.2.2.2.2.2.2.2.2.2.2.2.2.2.1 k3_t190 k3_h95
theorem k3_t253_ok : ∀ (i : grid3.Coords) (v596 : BitVec 32) (v601 : BitVec 32) (k3_hw31 : k3_chk31 i v596 v601), ∀ (k3_h127 : k3_cond127 i v596 v601 = 1#1), (k3_t253_loop i v596 v601).OK := fun i v596 v601 k3_hw31 k3_h127 => k3_hw31.1.2.2.2.2.2.2.2.2.2.2.2.2.2.2.2.2.2.2.2.2.2.2.2.2.2.2.2.2.2.2.1 k3_h127
theorem k3_off1011_inb : ∀ (i : grid3.Coords) (v596 : BitVec 32) (v601 : BitVec 32) (k3_hw31 : k3_chk31 i v596 v601) (k3_t253 : Fin (k3_t253_loop i v596 v601).trips), ∀ (k3_h127 : k3_cond127 i v596 v601 = 1#1), ∀ a, (k3_off1011 i v596 v601 k3_t253) a + S1x16.size a ≤ S256x128.size a := fun i v596 v601 k3_hw31 k3_t253 k3_h127 => k3_hw31.1.2.2.2.2.2.2.2.2.2.2.2.2.2.2.2.2.2.2.2.2.2.2.2.2.2.2.2.2.2.2.2 k3_t253 k3_h127
theorem k3_off1012_inb : ∀ (i : grid3.Coords) (v596 : BitVec 32) (v601 : BitVec 32) (k3_hw31 : k3_chk31 i v596 v601) (k3_t253 : Fin (k3_t253_loop i v596 v601).trips), ∀ (k3_h127 : k3_cond127 i v596 v601 = 1#1), ∀ a, (k3_off1012 i v596 v601 k3_t253) a + S1x16.size a ≤ S256x128.size a := fun i v596 v601 k3_hw31 k3_t253 k3_h127 => k3_hw31.2.1 k3_t253 k3_h127
theorem k3_off1013_inb : ∀ (i : grid3.Coords) (v596 : BitVec 32) (v601 : BitVec 32) (k3_hw31 : k3_chk31 i v596 v601) (k3_t253 : Fin (k3_t253_loop i v596 v601).trips), ∀ (k3_h127 : k3_cond127 i v596 v601 = 1#1), ∀ a, (k3_off1013 i v596 v601 k3_t253) a + S1x16.size a ≤ S256x128.size a := fun i v596 v601 k3_hw31 k3_t253 k3_h127 => k3_hw31.2.2.1 k3_t253 k3_h127
theorem k3_off1014_inb : ∀ (i : grid3.Coords) (v596 : BitVec 32) (v601 : BitVec 32) (k3_hw31 : k3_chk31 i v596 v601) (k3_t253 : Fin (k3_t253_loop i v596 v601).trips), ∀ (k3_h127 : k3_cond127 i v596 v601 = 1#1), ∀ a, (k3_off1014 i v596 v601 k3_t253) a + S1x16.size a ≤ S256x128.size a := fun i v596 v601 k3_hw31 k3_t253 k3_h127 => k3_hw31.2.2.2.1 k3_t253 k3_h127
theorem k3_t254_ok : ∀ (i : grid3.Coords) (v596 : BitVec 32) (v601 : BitVec 32) (k3_hw31 : k3_chk31 i v596 v601), ∀ (k3_h127 : k3_cond127 i v596 v601 = 1#1), (k3_t254_loop i v596 v601).OK := fun i v596 v601 k3_hw31 k3_h127 => k3_hw31.2.2.2.2.1 k3_h127
theorem k3_off1015_inb : ∀ (i : grid3.Coords) (v596 : BitVec 32) (v601 : BitVec 32) (k3_hw31 : k3_chk31 i v596 v601) (k3_t254 : Fin (k3_t254_loop i v596 v601).trips), ∀ (k3_h127 : k3_cond127 i v596 v601 = 1#1), ∀ a, (k3_off1015 i v596 v601 k3_t254) a + S1x16.size a ≤ S256x128.size a := fun i v596 v601 k3_hw31 k3_t254 k3_h127 => k3_hw31.2.2.2.2.2.1 k3_t254 k3_h127
theorem k3_off1016_inb : ∀ (i : grid3.Coords) (v596 : BitVec 32) (v601 : BitVec 32) (k3_hw31 : k3_chk31 i v596 v601) (k3_t254 : Fin (k3_t254_loop i v596 v601).trips), ∀ (k3_h127 : k3_cond127 i v596 v601 = 1#1), ∀ a, (k3_off1016 i v596 v601 k3_t254) a + S1x16.size a ≤ S256x128.size a := fun i v596 v601 k3_hw31 k3_t254 k3_h127 => k3_hw31.2.2.2.2.2.2.1 k3_t254 k3_h127
theorem k3_off1017_inb : ∀ (i : grid3.Coords) (v596 : BitVec 32) (v601 : BitVec 32) (k3_hw31 : k3_chk31 i v596 v601) (k3_t254 : Fin (k3_t254_loop i v596 v601).trips), ∀ (k3_h127 : k3_cond127 i v596 v601 = 1#1), ∀ a, (k3_off1017 i v596 v601 k3_t254) a + S1x16.size a ≤ S256x128.size a := fun i v596 v601 k3_hw31 k3_t254 k3_h127 => k3_hw31.2.2.2.2.2.2.2.1 k3_t254 k3_h127
theorem k3_off1018_inb : ∀ (i : grid3.Coords) (v596 : BitVec 32) (v601 : BitVec 32) (k3_hw31 : k3_chk31 i v596 v601) (k3_t254 : Fin (k3_t254_loop i v596 v601).trips), ∀ (k3_h127 : k3_cond127 i v596 v601 = 1#1), ∀ a, (k3_off1018 i v596 v601 k3_t254) a + S1x16.size a ≤ S256x128.size a := fun i v596 v601 k3_hw31 k3_t254 k3_h127 => k3_hw31.2.2.2.2.2.2.2.2 k3_t254 k3_h127

@[reducible] def k3_t255_loop (i : grid3.Coords) (v606 : BitVec 32) (v612 : BitVec 32) : Scf.Loop 32 :=
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let c256_i32_1185 : BitVec 32 := 256#32
  let c0_i32_1184 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c768_i32_1183 : BitVec 32 := 768#32
  let v1787 : BitVec 32 := Scalar.subi v616 c768_i32_1183
  let v1788 : BitVec 32 := Scalar.maxsi c0_i32_1184 v1787
  let v1789 : BitVec 32 := Scalar.minsi c256_i32_1185 v1788
  let v1805 : BitVec 32 := Scalar.subi v1789 v1786
  let c1_i32_1195 : BitVec 32 := 1#32
  let v1807 : BitVec 32 := Scalar.divsi v1805 c1_i32_1195
  let v1808 : BitVec 32 := Scalar.muli v1807 c1_i32_1195
  let v1809 : BitVec 32 := Scalar.addi v1786 v1808
  let c1_i32_1196 : BitVec 32 := 1#32
  ⟨v1786, v1809, c1_i32_1196⟩
def k3_cond128 (i : grid3.Coords) (v606 : BitVec 32) (v612 : BitVec 32) : BitVec 1 :=
  let c256_i32_1185 : BitVec 32 := 256#32
  let c0_i32_1184 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v614 : BitVec 32 := Scalar.subi v613 v3
  let v615 : BitVec 32 := Scalar.maxsi c0_i32_268 v614
  let v616 : BitVec 32 := Scalar.minsi c1024_i32_269 v615
  let c768_i32_1183 : BitVec 32 := 768#32
  let v1787 : BitVec 32 := Scalar.subi v616 c768_i32_1183
  let v1788 : BitVec 32 := Scalar.maxsi c0_i32_1184 v1787
  let v1789 : BitVec 32 := Scalar.minsi c256_i32_1185 v1788
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let v1790 : BitVec 1 := Scalar.cmpi .sgt v1789 v1786
  let v1791 : BitVec 32 := Scalar.extui v1790
  let c0_i32_1186 : BitVec 32 := 0#32
  let v1792 : BitVec 1 := Scalar.cmpi .ne v1791 c0_i32_1186
  v1792

def k3_off1019 (i : grid3.Coords) (v606 : BitVec 32) (v612 : BitVec 32) (k3_t255 : Fin (k3_t255_loop i v606 v612).trips) : Fin 2 → Nat :=
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let c1_i32_1196 : BitVec 32 := 1#32
  let arg13 : BitVec 32 := Scf.iv v1786 c1_i32_1196 k3_t255
  let v1828 : Index := Scalar.indexCast arg13
  let c64 : Index := 64#32
  ![v1828.toNat, 64]
def k3_off1020 (i : grid3.Coords) (v606 : BitVec 32) (v612 : BitVec 32) (k3_t255 : Fin (k3_t255_loop i v606 v612).trips) : Fin 2 → Nat :=
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let c1_i32_1196 : BitVec 32 := 1#32
  let arg13 : BitVec 32 := Scf.iv v1786 c1_i32_1196 k3_t255
  let v1832 : Index := Scalar.indexCast arg13
  let c80 : Index := 80#32
  ![v1832.toNat, 80]
def k3_off1021 (i : grid3.Coords) (v606 : BitVec 32) (v612 : BitVec 32) (k3_t255 : Fin (k3_t255_loop i v606 v612).trips) : Fin 2 → Nat :=
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let c1_i32_1196 : BitVec 32 := 1#32
  let arg13 : BitVec 32 := Scf.iv v1786 c1_i32_1196 k3_t255
  let v1836 : Index := Scalar.indexCast arg13
  let c96 : Index := 96#32
  ![v1836.toNat, 96]
def k3_off1022 (i : grid3.Coords) (v606 : BitVec 32) (v612 : BitVec 32) (k3_t255 : Fin (k3_t255_loop i v606 v612).trips) : Fin 2 → Nat :=
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let c1_i32_1196 : BitVec 32 := 1#32
  let arg13 : BitVec 32 := Scf.iv v1786 c1_i32_1196 k3_t255
  let v1840 : Index := Scalar.indexCast arg13
  let c112 : Index := 112#32
  ![v1840.toNat, 112]
@[reducible] def k3_t256_loop (i : grid3.Coords) (v606 : BitVec 32) (v612 : BitVec 32) : Scf.Loop 32 :=
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let c256_i32_1185 : BitVec 32 := 256#32
  let c0_i32_1184 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c768_i32_1183 : BitVec 32 := 768#32
  let v1787 : BitVec 32 := Scalar.subi v616 c768_i32_1183
  let v1788 : BitVec 32 := Scalar.maxsi c0_i32_1184 v1787
  let v1789 : BitVec 32 := Scalar.minsi c256_i32_1185 v1788
  let v1805 : BitVec 32 := Scalar.subi v1789 v1786
  let c1_i32_1195 : BitVec 32 := 1#32
  let v1807 : BitVec 32 := Scalar.divsi v1805 c1_i32_1195
  let v1808 : BitVec 32 := Scalar.muli v1807 c1_i32_1195
  let v1809 : BitVec 32 := Scalar.addi v1786 v1808
  let v1806 : BitVec 32 := Scalar.addi v1786 v1805
  let c1_i32_1197 : BitVec 32 := 1#32
  ⟨v1809, v1806, c1_i32_1197⟩
def k3_off1023 (i : grid3.Coords) (v606 : BitVec 32) (v612 : BitVec 32) (k3_t256 : Fin (k3_t256_loop i v606 v612).trips) : Fin 2 → Nat :=
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let c256_i32_1185 : BitVec 32 := 256#32
  let c0_i32_1184 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c768_i32_1183 : BitVec 32 := 768#32
  let v1787 : BitVec 32 := Scalar.subi v616 c768_i32_1183
  let v1788 : BitVec 32 := Scalar.maxsi c0_i32_1184 v1787
  let v1789 : BitVec 32 := Scalar.minsi c256_i32_1185 v1788
  let v1805 : BitVec 32 := Scalar.subi v1789 v1786
  let c1_i32_1195 : BitVec 32 := 1#32
  let v1807 : BitVec 32 := Scalar.divsi v1805 c1_i32_1195
  let v1808 : BitVec 32 := Scalar.muli v1807 c1_i32_1195
  let v1809 : BitVec 32 := Scalar.addi v1786 v1808
  let c1_i32_1197 : BitVec 32 := 1#32
  let arg13 : BitVec 32 := Scf.iv v1809 c1_i32_1197 k3_t256
  let v1828 : Index := Scalar.indexCast arg13
  let c64 : Index := 64#32
  ![v1828.toNat, 64]
def k3_off1024 (i : grid3.Coords) (v606 : BitVec 32) (v612 : BitVec 32) (k3_t256 : Fin (k3_t256_loop i v606 v612).trips) : Fin 2 → Nat :=
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let c256_i32_1185 : BitVec 32 := 256#32
  let c0_i32_1184 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c768_i32_1183 : BitVec 32 := 768#32
  let v1787 : BitVec 32 := Scalar.subi v616 c768_i32_1183
  let v1788 : BitVec 32 := Scalar.maxsi c0_i32_1184 v1787
  let v1789 : BitVec 32 := Scalar.minsi c256_i32_1185 v1788
  let v1805 : BitVec 32 := Scalar.subi v1789 v1786
  let c1_i32_1195 : BitVec 32 := 1#32
  let v1807 : BitVec 32 := Scalar.divsi v1805 c1_i32_1195
  let v1808 : BitVec 32 := Scalar.muli v1807 c1_i32_1195
  let v1809 : BitVec 32 := Scalar.addi v1786 v1808
  let c1_i32_1197 : BitVec 32 := 1#32
  let arg13 : BitVec 32 := Scf.iv v1809 c1_i32_1197 k3_t256
  let v1832 : Index := Scalar.indexCast arg13
  let c80 : Index := 80#32
  ![v1832.toNat, 80]
def k3_off1025 (i : grid3.Coords) (v606 : BitVec 32) (v612 : BitVec 32) (k3_t256 : Fin (k3_t256_loop i v606 v612).trips) : Fin 2 → Nat :=
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let c256_i32_1185 : BitVec 32 := 256#32
  let c0_i32_1184 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c768_i32_1183 : BitVec 32 := 768#32
  let v1787 : BitVec 32 := Scalar.subi v616 c768_i32_1183
  let v1788 : BitVec 32 := Scalar.maxsi c0_i32_1184 v1787
  let v1789 : BitVec 32 := Scalar.minsi c256_i32_1185 v1788
  let v1805 : BitVec 32 := Scalar.subi v1789 v1786
  let c1_i32_1195 : BitVec 32 := 1#32
  let v1807 : BitVec 32 := Scalar.divsi v1805 c1_i32_1195
  let v1808 : BitVec 32 := Scalar.muli v1807 c1_i32_1195
  let v1809 : BitVec 32 := Scalar.addi v1786 v1808
  let c1_i32_1197 : BitVec 32 := 1#32
  let arg13 : BitVec 32 := Scf.iv v1809 c1_i32_1197 k3_t256
  let v1836 : Index := Scalar.indexCast arg13
  let c96 : Index := 96#32
  ![v1836.toNat, 96]
def k3_off1026 (i : grid3.Coords) (v606 : BitVec 32) (v612 : BitVec 32) (k3_t256 : Fin (k3_t256_loop i v606 v612).trips) : Fin 2 → Nat :=
  let c256_i32_1182 : BitVec 32 := 256#32
  let c0_i32_1181 : BitVec 32 := 0#32
  let c1024_i32_266 : BitVec 32 := 1024#32
  let c0_i32_265 : BitVec 32 := 0#32
  let c65536_i32_264 : BitVec 32 := 65536#32
  let v607 : BitVec 32 := Scalar.subi v606 c65536_i32_264
  let c32768_i32 : BitVec 32 := 32768#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi c32768_i32 v2
  let v608 : BitVec 32 := Scalar.subi v607 v3
  let v609 : BitVec 32 := Scalar.maxsi c0_i32_265 v608
  let v610 : BitVec 32 := Scalar.minsi c1024_i32_266 v609
  let c768_i32_1180 : BitVec 32 := 768#32
  let v1784 : BitVec 32 := Scalar.subi v610 c768_i32_1180
  let v1785 : BitVec 32 := Scalar.maxsi c0_i32_1181 v1784
  let v1786 : BitVec 32 := Scalar.minsi c256_i32_1182 v1785
  let c256_i32_1185 : BitVec 32 := 256#32
  let c0_i32_1184 : BitVec 32 := 0#32
  let c1024_i32_269 : BitVec 32 := 1024#32
  let c0_i32_268 : BitVec 32 := 0#32
  let c65536_i32_267 : BitVec 32 := 65536#32
  let v613 : BitVec 32 := Scalar.subi v612 c65536_i32_267
  let v614 : BitVec 32 := Scalar.subi v613 v3
  let v615 : BitVec 32 := Scalar.maxsi c0_i32_268 v614
  let v616 : BitVec 32 := Scalar.minsi c1024_i32_269 v615
  let c768_i32_1183 : BitVec 32 := 768#32
  let v1787 : BitVec 32 := Scalar.subi v616 c768_i32_1183
  let v1788 : BitVec 32 := Scalar.maxsi c0_i32_1184 v1787
  let v1789 : BitVec 32 := Scalar.minsi c256_i32_1185 v1788
  let v1805 : BitVec 32 := Scalar.subi v1789 v1786
  let c1_i32_1195 : BitVec 32 := 1#32
  let v1807 : BitVec 32 := Scalar.divsi v1805 c1_i32_1195
  let v1808 : BitVec 32 := Scalar.muli v1807 c1_i32_1195
  let v1809 : BitVec 32 := Scalar.addi v1786 v1808
  let c1_i32_1197 : BitVec 32 := 1#32
  let arg13 : BitVec 32 := Scf.iv v1809 c1_i32_1197 k3_t256
  let v1840 : Index := Scalar.indexCast arg13
  let c112 : Index := 112#32
  ![v1840.toNat, 112]

def k3_chk32_0 (i : grid3.Coords) (v606 : BitVec 32) (v612 : BitVec 32) : Prop :=
  (∀ (k3_h32 : k3_cond32 i v606 v612 = 1#1), (k3_t63_loop i v606 v612).OK) ∧
  (∀ k3_t63 : Fin (k3_t63_loop i v606 v612).trips, ∀ (k3_h32 : k3_cond32 i v606 v612 = 1#1), ∀ a, (k3_off250 i v606 v612 k3_t63) a + S1x16.size a ≤ S256x128.size a) ∧
  (∀ k3_t63 : Fin (k3_t63_loop i v606 v612).trips, ∀ (k3_h32 : k3_cond32 i v606 v612 = 1#1), ∀ a, (k3_off251 i v606 v612 k3_t63) a + S1x16.size a ≤ S256x128.size a) ∧
  (∀ k3_t63 : Fin (k3_t63_loop i v606 v612).trips, ∀ (k3_h32 : k3_cond32 i v606 v612 = 1#1), ∀ a, (k3_off252 i v606 v612 k3_t63) a + S1x16.size a ≤ S256x128.size a) ∧
  (∀ k3_t63 : Fin (k3_t63_loop i v606 v612).trips, ∀ (k3_h32 : k3_cond32 i v606 v612 = 1#1), ∀ a, (k3_off253 i v606 v612 k3_t63) a + S1x16.size a ≤ S256x128.size a) ∧
  (∀ (k3_h32 : k3_cond32 i v606 v612 = 1#1), (k3_t64_loop i v606 v612).OK) ∧
  (∀ k3_t64 : Fin (k3_t64_loop i v606 v612).trips, ∀ (k3_h32 : k3_cond32 i v606 v612 = 1#1), ∀ a, (k3_off254 i v606 v612 k3_t64) a + S1x16.size a ≤ S256x128.size a) ∧
  (∀ k3_t64 : Fin (k3_t64_loop i v606 v612).trips, ∀ (k3_h32 : k3_cond32 i v606 v612 = 1#1), ∀ a, (k3_off255 i v606 v612 k3_t64) a + S1x16.size a ≤ S256x128.size a) ∧
  (∀ k3_t64 : Fin (k3_t64_loop i v606 v612).trips, ∀ (k3_h32 : k3_cond32 i v606 v612 = 1#1), ∀ a, (k3_off256 i v606 v612 k3_t64) a + S1x16.size a ≤ S256x128.size a) ∧
  (∀ k3_t64 : Fin (k3_t64_loop i v606 v612).trips, ∀ (k3_h32 : k3_cond32 i v606 v612 = 1#1), ∀ a, (k3_off257 i v606 v612 k3_t64) a + S1x16.size a ≤ S256x128.size a) ∧
  (∀ (k3_h64 : k3_cond64 i v606 v612 = 1#1), (k3_t127_loop i v606 v612).OK) ∧
  (∀ k3_t127 : Fin (k3_t127_loop i v606 v612).trips, ∀ (k3_h64 : k3_cond64 i v606 v612 = 1#1), ∀ a, (k3_off507 i v606 v612 k3_t127) a + S1x16.size a ≤ S256x128.size a) ∧
  (∀ k3_t127 : Fin (k3_t127_loop i v606 v612).trips, ∀ (k3_h64 : k3_cond64 i v606 v612 = 1#1), ∀ a, (k3_off508 i v606 v612 k3_t127) a + S1x16.size a ≤ S256x128.size a) ∧
  (∀ k3_t127 : Fin (k3_t127_loop i v606 v612).trips, ∀ (k3_h64 : k3_cond64 i v606 v612 = 1#1), ∀ a, (k3_off509 i v606 v612 k3_t127) a + S1x16.size a ≤ S256x128.size a) ∧
  (∀ k3_t127 : Fin (k3_t127_loop i v606 v612).trips, ∀ (k3_h64 : k3_cond64 i v606 v612 = 1#1), ∀ a, (k3_off510 i v606 v612 k3_t127) a + S1x16.size a ≤ S256x128.size a) ∧
  (∀ (k3_h64 : k3_cond64 i v606 v612 = 1#1), (k3_t128_loop i v606 v612).OK) ∧
  (∀ k3_t128 : Fin (k3_t128_loop i v606 v612).trips, ∀ (k3_h64 : k3_cond64 i v606 v612 = 1#1), ∀ a, (k3_off511 i v606 v612 k3_t128) a + S1x16.size a ≤ S256x128.size a) ∧
  (∀ k3_t128 : Fin (k3_t128_loop i v606 v612).trips, ∀ (k3_h64 : k3_cond64 i v606 v612 = 1#1), ∀ a, (k3_off512 i v606 v612 k3_t128) a + S1x16.size a ≤ S256x128.size a) ∧
  (∀ k3_t128 : Fin (k3_t128_loop i v606 v612).trips, ∀ (k3_h64 : k3_cond64 i v606 v612 = 1#1), ∀ a, (k3_off513 i v606 v612 k3_t128) a + S1x16.size a ≤ S256x128.size a) ∧
  (∀ k3_t128 : Fin (k3_t128_loop i v606 v612).trips, ∀ (k3_h64 : k3_cond64 i v606 v612 = 1#1), ∀ a, (k3_off514 i v606 v612 k3_t128) a + S1x16.size a ≤ S256x128.size a) ∧
  (∀ (k3_h96 : k3_cond96 i v606 v612 = 1#1), (k3_t191_loop i v606 v612).OK) ∧
  (∀ k3_t191 : Fin (k3_t191_loop i v606 v612).trips, ∀ (k3_h96 : k3_cond96 i v606 v612 = 1#1), ∀ a, (k3_off763 i v606 v612 k3_t191) a + S1x16.size a ≤ S256x128.size a) ∧
  (∀ k3_t191 : Fin (k3_t191_loop i v606 v612).trips, ∀ (k3_h96 : k3_cond96 i v606 v612 = 1#1), ∀ a, (k3_off764 i v606 v612 k3_t191) a + S1x16.size a ≤ S256x128.size a) ∧
  (∀ k3_t191 : Fin (k3_t191_loop i v606 v612).trips, ∀ (k3_h96 : k3_cond96 i v606 v612 = 1#1), ∀ a, (k3_off765 i v606 v612 k3_t191) a + S1x16.size a ≤ S256x128.size a) ∧
  (∀ k3_t191 : Fin (k3_t191_loop i v606 v612).trips, ∀ (k3_h96 : k3_cond96 i v606 v612 = 1#1), ∀ a, (k3_off766 i v606 v612 k3_t191) a + S1x16.size a ≤ S256x128.size a) ∧
  (∀ (k3_h96 : k3_cond96 i v606 v612 = 1#1), (k3_t192_loop i v606 v612).OK) ∧
  (∀ k3_t192 : Fin (k3_t192_loop i v606 v612).trips, ∀ (k3_h96 : k3_cond96 i v606 v612 = 1#1), ∀ a, (k3_off767 i v606 v612 k3_t192) a + S1x16.size a ≤ S256x128.size a) ∧
  (∀ k3_t192 : Fin (k3_t192_loop i v606 v612).trips, ∀ (k3_h96 : k3_cond96 i v606 v612 = 1#1), ∀ a, (k3_off768 i v606 v612 k3_t192) a + S1x16.size a ≤ S256x128.size a) ∧
  (∀ k3_t192 : Fin (k3_t192_loop i v606 v612).trips, ∀ (k3_h96 : k3_cond96 i v606 v612 = 1#1), ∀ a, (k3_off769 i v606 v612 k3_t192) a + S1x16.size a ≤ S256x128.size a) ∧
  (∀ k3_t192 : Fin (k3_t192_loop i v606 v612).trips, ∀ (k3_h96 : k3_cond96 i v606 v612 = 1#1), ∀ a, (k3_off770 i v606 v612 k3_t192) a + S1x16.size a ≤ S256x128.size a) ∧
  (∀ (k3_h128 : k3_cond128 i v606 v612 = 1#1), (k3_t255_loop i v606 v612).OK) ∧
  (∀ k3_t255 : Fin (k3_t255_loop i v606 v612).trips, ∀ (k3_h128 : k3_cond128 i v606 v612 = 1#1), ∀ a, (k3_off1019 i v606 v612 k3_t255) a + S1x16.size a ≤ S256x128.size a)
def k3_chk32_1 (i : grid3.Coords) (v606 : BitVec 32) (v612 : BitVec 32) : Prop :=
  (∀ k3_t255 : Fin (k3_t255_loop i v606 v612).trips, ∀ (k3_h128 : k3_cond128 i v606 v612 = 1#1), ∀ a, (k3_off1020 i v606 v612 k3_t255) a + S1x16.size a ≤ S256x128.size a) ∧
  (∀ k3_t255 : Fin (k3_t255_loop i v606 v612).trips, ∀ (k3_h128 : k3_cond128 i v606 v612 = 1#1), ∀ a, (k3_off1021 i v606 v612 k3_t255) a + S1x16.size a ≤ S256x128.size a) ∧
  (∀ k3_t255 : Fin (k3_t255_loop i v606 v612).trips, ∀ (k3_h128 : k3_cond128 i v606 v612 = 1#1), ∀ a, (k3_off1022 i v606 v612 k3_t255) a + S1x16.size a ≤ S256x128.size a) ∧
  (∀ (k3_h128 : k3_cond128 i v606 v612 = 1#1), (k3_t256_loop i v606 v612).OK) ∧
  (∀ k3_t256 : Fin (k3_t256_loop i v606 v612).trips, ∀ (k3_h128 : k3_cond128 i v606 v612 = 1#1), ∀ a, (k3_off1023 i v606 v612 k3_t256) a + S1x16.size a ≤ S256x128.size a) ∧
  (∀ k3_t256 : Fin (k3_t256_loop i v606 v612).trips, ∀ (k3_h128 : k3_cond128 i v606 v612 = 1#1), ∀ a, (k3_off1024 i v606 v612 k3_t256) a + S1x16.size a ≤ S256x128.size a) ∧
  (∀ k3_t256 : Fin (k3_t256_loop i v606 v612).trips, ∀ (k3_h128 : k3_cond128 i v606 v612 = 1#1), ∀ a, (k3_off1025 i v606 v612 k3_t256) a + S1x16.size a ≤ S256x128.size a) ∧
  (∀ k3_t256 : Fin (k3_t256_loop i v606 v612).trips, ∀ (k3_h128 : k3_cond128 i v606 v612 = 1#1), ∀ a, (k3_off1026 i v606 v612 k3_t256) a + S1x16.size a ≤ S256x128.size a)
def k3_chk32 (i : grid3.Coords) (v606 : BitVec 32) (v612 : BitVec 32) : Prop :=
  k3_chk32_0 i v606 v612 ∧
  k3_chk32_1 i v606 v612
theorem k3_t63_ok : ∀ (i : grid3.Coords) (v606 : BitVec 32) (v612 : BitVec 32) (k3_hw32 : k3_chk32 i v606 v612), ∀ (k3_h32 : k3_cond32 i v606 v612 = 1#1), (k3_t63_loop i v606 v612).OK := fun i v606 v612 k3_hw32 k3_h32 => k3_hw32.1.1 k3_h32
theorem k3_off250_inb : ∀ (i : grid3.Coords) (v606 : BitVec 32) (v612 : BitVec 32) (k3_hw32 : k3_chk32 i v606 v612) (k3_t63 : Fin (k3_t63_loop i v606 v612).trips), ∀ (k3_h32 : k3_cond32 i v606 v612 = 1#1), ∀ a, (k3_off250 i v606 v612 k3_t63) a + S1x16.size a ≤ S256x128.size a := fun i v606 v612 k3_hw32 k3_t63 k3_h32 => k3_hw32.1.2.1 k3_t63 k3_h32
theorem k3_off251_inb : ∀ (i : grid3.Coords) (v606 : BitVec 32) (v612 : BitVec 32) (k3_hw32 : k3_chk32 i v606 v612) (k3_t63 : Fin (k3_t63_loop i v606 v612).trips), ∀ (k3_h32 : k3_cond32 i v606 v612 = 1#1), ∀ a, (k3_off251 i v606 v612 k3_t63) a + S1x16.size a ≤ S256x128.size a := fun i v606 v612 k3_hw32 k3_t63 k3_h32 => k3_hw32.1.2.2.1 k3_t63 k3_h32
theorem k3_off252_inb : ∀ (i : grid3.Coords) (v606 : BitVec 32) (v612 : BitVec 32) (k3_hw32 : k3_chk32 i v606 v612) (k3_t63 : Fin (k3_t63_loop i v606 v612).trips), ∀ (k3_h32 : k3_cond32 i v606 v612 = 1#1), ∀ a, (k3_off252 i v606 v612 k3_t63) a + S1x16.size a ≤ S256x128.size a := fun i v606 v612 k3_hw32 k3_t63 k3_h32 => k3_hw32.1.2.2.2.1 k3_t63 k3_h32
theorem k3_off253_inb : ∀ (i : grid3.Coords) (v606 : BitVec 32) (v612 : BitVec 32) (k3_hw32 : k3_chk32 i v606 v612) (k3_t63 : Fin (k3_t63_loop i v606 v612).trips), ∀ (k3_h32 : k3_cond32 i v606 v612 = 1#1), ∀ a, (k3_off253 i v606 v612 k3_t63) a + S1x16.size a ≤ S256x128.size a := fun i v606 v612 k3_hw32 k3_t63 k3_h32 => k3_hw32.1.2.2.2.2.1 k3_t63 k3_h32
theorem k3_t64_ok : ∀ (i : grid3.Coords) (v606 : BitVec 32) (v612 : BitVec 32) (k3_hw32 : k3_chk32 i v606 v612), ∀ (k3_h32 : k3_cond32 i v606 v612 = 1#1), (k3_t64_loop i v606 v612).OK := fun i v606 v612 k3_hw32 k3_h32 => k3_hw32.1.2.2.2.2.2.1 k3_h32
theorem k3_off254_inb : ∀ (i : grid3.Coords) (v606 : BitVec 32) (v612 : BitVec 32) (k3_hw32 : k3_chk32 i v606 v612) (k3_t64 : Fin (k3_t64_loop i v606 v612).trips), ∀ (k3_h32 : k3_cond32 i v606 v612 = 1#1), ∀ a, (k3_off254 i v606 v612 k3_t64) a + S1x16.size a ≤ S256x128.size a := fun i v606 v612 k3_hw32 k3_t64 k3_h32 => k3_hw32.1.2.2.2.2.2.2.1 k3_t64 k3_h32
theorem k3_off255_inb : ∀ (i : grid3.Coords) (v606 : BitVec 32) (v612 : BitVec 32) (k3_hw32 : k3_chk32 i v606 v612) (k3_t64 : Fin (k3_t64_loop i v606 v612).trips), ∀ (k3_h32 : k3_cond32 i v606 v612 = 1#1), ∀ a, (k3_off255 i v606 v612 k3_t64) a + S1x16.size a ≤ S256x128.size a := fun i v606 v612 k3_hw32 k3_t64 k3_h32 => k3_hw32.1.2.2.2.2.2.2.2.1 k3_t64 k3_h32
theorem k3_off256_inb : ∀ (i : grid3.Coords) (v606 : BitVec 32) (v612 : BitVec 32) (k3_hw32 : k3_chk32 i v606 v612) (k3_t64 : Fin (k3_t64_loop i v606 v612).trips), ∀ (k3_h32 : k3_cond32 i v606 v612 = 1#1), ∀ a, (k3_off256 i v606 v612 k3_t64) a + S1x16.size a ≤ S256x128.size a := fun i v606 v612 k3_hw32 k3_t64 k3_h32 => k3_hw32.1.2.2.2.2.2.2.2.2.1 k3_t64 k3_h32
theorem k3_off257_inb : ∀ (i : grid3.Coords) (v606 : BitVec 32) (v612 : BitVec 32) (k3_hw32 : k3_chk32 i v606 v612) (k3_t64 : Fin (k3_t64_loop i v606 v612).trips), ∀ (k3_h32 : k3_cond32 i v606 v612 = 1#1), ∀ a, (k3_off257 i v606 v612 k3_t64) a + S1x16.size a ≤ S256x128.size a := fun i v606 v612 k3_hw32 k3_t64 k3_h32 => k3_hw32.1.2.2.2.2.2.2.2.2.2.1 k3_t64 k3_h32
theorem k3_t127_ok : ∀ (i : grid3.Coords) (v606 : BitVec 32) (v612 : BitVec 32) (k3_hw32 : k3_chk32 i v606 v612), ∀ (k3_h64 : k3_cond64 i v606 v612 = 1#1), (k3_t127_loop i v606 v612).OK := fun i v606 v612 k3_hw32 k3_h64 => k3_hw32.1.2.2.2.2.2.2.2.2.2.2.1 k3_h64
theorem k3_off507_inb : ∀ (i : grid3.Coords) (v606 : BitVec 32) (v612 : BitVec 32) (k3_hw32 : k3_chk32 i v606 v612) (k3_t127 : Fin (k3_t127_loop i v606 v612).trips), ∀ (k3_h64 : k3_cond64 i v606 v612 = 1#1), ∀ a, (k3_off507 i v606 v612 k3_t127) a + S1x16.size a ≤ S256x128.size a := fun i v606 v612 k3_hw32 k3_t127 k3_h64 => k3_hw32.1.2.2.2.2.2.2.2.2.2.2.2.1 k3_t127 k3_h64
theorem k3_off508_inb : ∀ (i : grid3.Coords) (v606 : BitVec 32) (v612 : BitVec 32) (k3_hw32 : k3_chk32 i v606 v612) (k3_t127 : Fin (k3_t127_loop i v606 v612).trips), ∀ (k3_h64 : k3_cond64 i v606 v612 = 1#1), ∀ a, (k3_off508 i v606 v612 k3_t127) a + S1x16.size a ≤ S256x128.size a := fun i v606 v612 k3_hw32 k3_t127 k3_h64 => k3_hw32.1.2.2.2.2.2.2.2.2.2.2.2.2.1 k3_t127 k3_h64
theorem k3_off509_inb : ∀ (i : grid3.Coords) (v606 : BitVec 32) (v612 : BitVec 32) (k3_hw32 : k3_chk32 i v606 v612) (k3_t127 : Fin (k3_t127_loop i v606 v612).trips), ∀ (k3_h64 : k3_cond64 i v606 v612 = 1#1), ∀ a, (k3_off509 i v606 v612 k3_t127) a + S1x16.size a ≤ S256x128.size a := fun i v606 v612 k3_hw32 k3_t127 k3_h64 => k3_hw32.1.2.2.2.2.2.2.2.2.2.2.2.2.2.1 k3_t127 k3_h64
theorem k3_off510_inb : ∀ (i : grid3.Coords) (v606 : BitVec 32) (v612 : BitVec 32) (k3_hw32 : k3_chk32 i v606 v612) (k3_t127 : Fin (k3_t127_loop i v606 v612).trips), ∀ (k3_h64 : k3_cond64 i v606 v612 = 1#1), ∀ a, (k3_off510 i v606 v612 k3_t127) a + S1x16.size a ≤ S256x128.size a := fun i v606 v612 k3_hw32 k3_t127 k3_h64 => k3_hw32.1.2.2.2.2.2.2.2.2.2.2.2.2.2.2.1 k3_t127 k3_h64
theorem k3_t128_ok : ∀ (i : grid3.Coords) (v606 : BitVec 32) (v612 : BitVec 32) (k3_hw32 : k3_chk32 i v606 v612), ∀ (k3_h64 : k3_cond64 i v606 v612 = 1#1), (k3_t128_loop i v606 v612).OK := fun i v606 v612 k3_hw32 k3_h64 => k3_hw32.1.2.2.2.2.2.2.2.2.2.2.2.2.2.2.2.1 k3_h64
theorem k3_off511_inb : ∀ (i : grid3.Coords) (v606 : BitVec 32) (v612 : BitVec 32) (k3_hw32 : k3_chk32 i v606 v612) (k3_t128 : Fin (k3_t128_loop i v606 v612).trips), ∀ (k3_h64 : k3_cond64 i v606 v612 = 1#1), ∀ a, (k3_off511 i v606 v612 k3_t128) a + S1x16.size a ≤ S256x128.size a := fun i v606 v612 k3_hw32 k3_t128 k3_h64 => k3_hw32.1.2.2.2.2.2.2.2.2.2.2.2.2.2.2.2.2.1 k3_t128 k3_h64
theorem k3_off512_inb : ∀ (i : grid3.Coords) (v606 : BitVec 32) (v612 : BitVec 32) (k3_hw32 : k3_chk32 i v606 v612) (k3_t128 : Fin (k3_t128_loop i v606 v612).trips), ∀ (k3_h64 : k3_cond64 i v606 v612 = 1#1), ∀ a, (k3_off512 i v606 v612 k3_t128) a + S1x16.size a ≤ S256x128.size a := fun i v606 v612 k3_hw32 k3_t128 k3_h64 => k3_hw32.1.2.2.2.2.2.2.2.2.2.2.2.2.2.2.2.2.2.1 k3_t128 k3_h64
theorem k3_off513_inb : ∀ (i : grid3.Coords) (v606 : BitVec 32) (v612 : BitVec 32) (k3_hw32 : k3_chk32 i v606 v612) (k3_t128 : Fin (k3_t128_loop i v606 v612).trips), ∀ (k3_h64 : k3_cond64 i v606 v612 = 1#1), ∀ a, (k3_off513 i v606 v612 k3_t128) a + S1x16.size a ≤ S256x128.size a := fun i v606 v612 k3_hw32 k3_t128 k3_h64 => k3_hw32.1.2.2.2.2.2.2.2.2.2.2.2.2.2.2.2.2.2.2.1 k3_t128 k3_h64
theorem k3_off514_inb : ∀ (i : grid3.Coords) (v606 : BitVec 32) (v612 : BitVec 32) (k3_hw32 : k3_chk32 i v606 v612) (k3_t128 : Fin (k3_t128_loop i v606 v612).trips), ∀ (k3_h64 : k3_cond64 i v606 v612 = 1#1), ∀ a, (k3_off514 i v606 v612 k3_t128) a + S1x16.size a ≤ S256x128.size a := fun i v606 v612 k3_hw32 k3_t128 k3_h64 => k3_hw32.1.2.2.2.2.2.2.2.2.2.2.2.2.2.2.2.2.2.2.2.1 k3_t128 k3_h64
theorem k3_t191_ok : ∀ (i : grid3.Coords) (v606 : BitVec 32) (v612 : BitVec 32) (k3_hw32 : k3_chk32 i v606 v612), ∀ (k3_h96 : k3_cond96 i v606 v612 = 1#1), (k3_t191_loop i v606 v612).OK := fun i v606 v612 k3_hw32 k3_h96 => k3_hw32.1.2.2.2.2.2.2.2.2.2.2.2.2.2.2.2.2.2.2.2.2.1 k3_h96
theorem k3_off763_inb : ∀ (i : grid3.Coords) (v606 : BitVec 32) (v612 : BitVec 32) (k3_hw32 : k3_chk32 i v606 v612) (k3_t191 : Fin (k3_t191_loop i v606 v612).trips), ∀ (k3_h96 : k3_cond96 i v606 v612 = 1#1), ∀ a, (k3_off763 i v606 v612 k3_t191) a + S1x16.size a ≤ S256x128.size a := fun i v606 v612 k3_hw32 k3_t191 k3_h96 => k3_hw32.1.2.2.2.2.2.2.2.2.2.2.2.2.2.2.2.2.2.2.2.2.2.1 k3_t191 k3_h96
theorem k3_off764_inb : ∀ (i : grid3.Coords) (v606 : BitVec 32) (v612 : BitVec 32) (k3_hw32 : k3_chk32 i v606 v612) (k3_t191 : Fin (k3_t191_loop i v606 v612).trips), ∀ (k3_h96 : k3_cond96 i v606 v612 = 1#1), ∀ a, (k3_off764 i v606 v612 k3_t191) a + S1x16.size a ≤ S256x128.size a := fun i v606 v612 k3_hw32 k3_t191 k3_h96 => k3_hw32.1.2.2.2.2.2.2.2.2.2.2.2.2.2.2.2.2.2.2.2.2.2.2.1 k3_t191 k3_h96
theorem k3_off765_inb : ∀ (i : grid3.Coords) (v606 : BitVec 32) (v612 : BitVec 32) (k3_hw32 : k3_chk32 i v606 v612) (k3_t191 : Fin (k3_t191_loop i v606 v612).trips), ∀ (k3_h96 : k3_cond96 i v606 v612 = 1#1), ∀ a, (k3_off765 i v606 v612 k3_t191) a + S1x16.size a ≤ S256x128.size a := fun i v606 v612 k3_hw32 k3_t191 k3_h96 => k3_hw32.1.2.2.2.2.2.2.2.2.2.2.2.2.2.2.2.2.2.2.2.2.2.2.2.1 k3_t191 k3_h96
theorem k3_off766_inb : ∀ (i : grid3.Coords) (v606 : BitVec 32) (v612 : BitVec 32) (k3_hw32 : k3_chk32 i v606 v612) (k3_t191 : Fin (k3_t191_loop i v606 v612).trips), ∀ (k3_h96 : k3_cond96 i v606 v612 = 1#1), ∀ a, (k3_off766 i v606 v612 k3_t191) a + S1x16.size a ≤ S256x128.size a := fun i v606 v612 k3_hw32 k3_t191 k3_h96 => k3_hw32.1.2.2.2.2.2.2.2.2.2.2.2.2.2.2.2.2.2.2.2.2.2.2.2.2.1 k3_t191 k3_h96
theorem k3_t192_ok : ∀ (i : grid3.Coords) (v606 : BitVec 32) (v612 : BitVec 32) (k3_hw32 : k3_chk32 i v606 v612), ∀ (k3_h96 : k3_cond96 i v606 v612 = 1#1), (k3_t192_loop i v606 v612).OK := fun i v606 v612 k3_hw32 k3_h96 => k3_hw32.1.2.2.2.2.2.2.2.2.2.2.2.2.2.2.2.2.2.2.2.2.2.2.2.2.2.1 k3_h96
theorem k3_off767_inb : ∀ (i : grid3.Coords) (v606 : BitVec 32) (v612 : BitVec 32) (k3_hw32 : k3_chk32 i v606 v612) (k3_t192 : Fin (k3_t192_loop i v606 v612).trips), ∀ (k3_h96 : k3_cond96 i v606 v612 = 1#1), ∀ a, (k3_off767 i v606 v612 k3_t192) a + S1x16.size a ≤ S256x128.size a := fun i v606 v612 k3_hw32 k3_t192 k3_h96 => k3_hw32.1.2.2.2.2.2.2.2.2.2.2.2.2.2.2.2.2.2.2.2.2.2.2.2.2.2.2.1 k3_t192 k3_h96
theorem k3_off768_inb : ∀ (i : grid3.Coords) (v606 : BitVec 32) (v612 : BitVec 32) (k3_hw32 : k3_chk32 i v606 v612) (k3_t192 : Fin (k3_t192_loop i v606 v612).trips), ∀ (k3_h96 : k3_cond96 i v606 v612 = 1#1), ∀ a, (k3_off768 i v606 v612 k3_t192) a + S1x16.size a ≤ S256x128.size a := fun i v606 v612 k3_hw32 k3_t192 k3_h96 => k3_hw32.1.2.2.2.2.2.2.2.2.2.2.2.2.2.2.2.2.2.2.2.2.2.2.2.2.2.2.2.1 k3_t192 k3_h96
theorem k3_off769_inb : ∀ (i : grid3.Coords) (v606 : BitVec 32) (v612 : BitVec 32) (k3_hw32 : k3_chk32 i v606 v612) (k3_t192 : Fin (k3_t192_loop i v606 v612).trips), ∀ (k3_h96 : k3_cond96 i v606 v612 = 1#1), ∀ a, (k3_off769 i v606 v612 k3_t192) a + S1x16.size a ≤ S256x128.size a := fun i v606 v612 k3_hw32 k3_t192 k3_h96 => k3_hw32.1.2.2.2.2.2.2.2.2.2.2.2.2.2.2.2.2.2.2.2.2.2.2.2.2.2.2.2.2.1 k3_t192 k3_h96
theorem k3_off770_inb : ∀ (i : grid3.Coords) (v606 : BitVec 32) (v612 : BitVec 32) (k3_hw32 : k3_chk32 i v606 v612) (k3_t192 : Fin (k3_t192_loop i v606 v612).trips), ∀ (k3_h96 : k3_cond96 i v606 v612 = 1#1), ∀ a, (k3_off770 i v606 v612 k3_t192) a + S1x16.size a ≤ S256x128.size a := fun i v606 v612 k3_hw32 k3_t192 k3_h96 => k3_hw32.1.2.2.2.2.2.2.2.2.2.2.2.2.2.2.2.2.2.2.2.2.2.2.2.2.2.2.2.2.2.1 k3_t192 k3_h96
theorem k3_t255_ok : ∀ (i : grid3.Coords) (v606 : BitVec 32) (v612 : BitVec 32) (k3_hw32 : k3_chk32 i v606 v612), ∀ (k3_h128 : k3_cond128 i v606 v612 = 1#1), (k3_t255_loop i v606 v612).OK := fun i v606 v612 k3_hw32 k3_h128 => k3_hw32.1.2.2.2.2.2.2.2.2.2.2.2.2.2.2.2.2.2.2.2.2.2.2.2.2.2.2.2.2.2.2.1 k3_h128
theorem k3_off1019_inb : ∀ (i : grid3.Coords) (v606 : BitVec 32) (v612 : BitVec 32) (k3_hw32 : k3_chk32 i v606 v612) (k3_t255 : Fin (k3_t255_loop i v606 v612).trips), ∀ (k3_h128 : k3_cond128 i v606 v612 = 1#1), ∀ a, (k3_off1019 i v606 v612 k3_t255) a + S1x16.size a ≤ S256x128.size a := fun i v606 v612 k3_hw32 k3_t255 k3_h128 => k3_hw32.1.2.2.2.2.2.2.2.2.2.2.2.2.2.2.2.2.2.2.2.2.2.2.2.2.2.2.2.2.2.2.2 k3_t255 k3_h128
theorem k3_off1020_inb : ∀ (i : grid3.Coords) (v606 : BitVec 32) (v612 : BitVec 32) (k3_hw32 : k3_chk32 i v606 v612) (k3_t255 : Fin (k3_t255_loop i v606 v612).trips), ∀ (k3_h128 : k3_cond128 i v606 v612 = 1#1), ∀ a, (k3_off1020 i v606 v612 k3_t255) a + S1x16.size a ≤ S256x128.size a := fun i v606 v612 k3_hw32 k3_t255 k3_h128 => k3_hw32.2.1 k3_t255 k3_h128
theorem k3_off1021_inb : ∀ (i : grid3.Coords) (v606 : BitVec 32) (v612 : BitVec 32) (k3_hw32 : k3_chk32 i v606 v612) (k3_t255 : Fin (k3_t255_loop i v606 v612).trips), ∀ (k3_h128 : k3_cond128 i v606 v612 = 1#1), ∀ a, (k3_off1021 i v606 v612 k3_t255) a + S1x16.size a ≤ S256x128.size a := fun i v606 v612 k3_hw32 k3_t255 k3_h128 => k3_hw32.2.2.1 k3_t255 k3_h128
theorem k3_off1022_inb : ∀ (i : grid3.Coords) (v606 : BitVec 32) (v612 : BitVec 32) (k3_hw32 : k3_chk32 i v606 v612) (k3_t255 : Fin (k3_t255_loop i v606 v612).trips), ∀ (k3_h128 : k3_cond128 i v606 v612 = 1#1), ∀ a, (k3_off1022 i v606 v612 k3_t255) a + S1x16.size a ≤ S256x128.size a := fun i v606 v612 k3_hw32 k3_t255 k3_h128 => k3_hw32.2.2.2.1 k3_t255 k3_h128
theorem k3_t256_ok : ∀ (i : grid3.Coords) (v606 : BitVec 32) (v612 : BitVec 32) (k3_hw32 : k3_chk32 i v606 v612), ∀ (k3_h128 : k3_cond128 i v606 v612 = 1#1), (k3_t256_loop i v606 v612).OK := fun i v606 v612 k3_hw32 k3_h128 => k3_hw32.2.2.2.2.1 k3_h128
theorem k3_off1023_inb : ∀ (i : grid3.Coords) (v606 : BitVec 32) (v612 : BitVec 32) (k3_hw32 : k3_chk32 i v606 v612) (k3_t256 : Fin (k3_t256_loop i v606 v612).trips), ∀ (k3_h128 : k3_cond128 i v606 v612 = 1#1), ∀ a, (k3_off1023 i v606 v612 k3_t256) a + S1x16.size a ≤ S256x128.size a := fun i v606 v612 k3_hw32 k3_t256 k3_h128 => k3_hw32.2.2.2.2.2.1 k3_t256 k3_h128
theorem k3_off1024_inb : ∀ (i : grid3.Coords) (v606 : BitVec 32) (v612 : BitVec 32) (k3_hw32 : k3_chk32 i v606 v612) (k3_t256 : Fin (k3_t256_loop i v606 v612).trips), ∀ (k3_h128 : k3_cond128 i v606 v612 = 1#1), ∀ a, (k3_off1024 i v606 v612 k3_t256) a + S1x16.size a ≤ S256x128.size a := fun i v606 v612 k3_hw32 k3_t256 k3_h128 => k3_hw32.2.2.2.2.2.2.1 k3_t256 k3_h128
theorem k3_off1025_inb : ∀ (i : grid3.Coords) (v606 : BitVec 32) (v612 : BitVec 32) (k3_hw32 : k3_chk32 i v606 v612) (k3_t256 : Fin (k3_t256_loop i v606 v612).trips), ∀ (k3_h128 : k3_cond128 i v606 v612 = 1#1), ∀ a, (k3_off1025 i v606 v612 k3_t256) a + S1x16.size a ≤ S256x128.size a := fun i v606 v612 k3_hw32 k3_t256 k3_h128 => k3_hw32.2.2.2.2.2.2.2.1 k3_t256 k3_h128
theorem k3_off1026_inb : ∀ (i : grid3.Coords) (v606 : BitVec 32) (v612 : BitVec 32) (k3_hw32 : k3_chk32 i v606 v612) (k3_t256 : Fin (k3_t256_loop i v606 v612).trips), ∀ (k3_h128 : k3_cond128 i v606 v612 = 1#1), ∀ a, (k3_off1026 i v606 v612 k3_t256) a + S1x16.size a ≤ S256x128.size a := fun i v606 v612 k3_hw32 k3_t256 k3_h128 => k3_hw32.2.2.2.2.2.2.2.2 k3_t256 k3_h128

def k3_off1027 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1187_r2 : BitVec 32 := 0#32
  let c0_i32_1188_r2 : BitVec 32 := 0#32
  ![v1.toNat, 0, 0]
abbrev grid4 : Pipeline.Grid := .none

abbrev stage4_0 : Fin 1 → Memref sig .tc .vmem S32x16x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S32x16x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S16x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S131072x61 : Shape := ⟨2, ![131072, 61]⟩
abbrev S131072x3 : Shape := ⟨2, ![131072, 3]⟩
abbrev S64x64 : Shape := ⟨2, ![64, 64]⟩
abbrev S64 : Shape := ⟨1, ![64]⟩
abbrev S131072 : Shape := ⟨1, ![131072]⟩
abbrev S131072x64 : Shape := ⟨2, ![131072, 64]⟩
abbrev S1x64 : Shape := ⟨2, ![1, 64]⟩
abbrev S_ : Shape := ⟨0, ![]⟩
abbrev S16 : Shape := ⟨1, ![16]⟩
abbrev S131072x1 : Shape := ⟨2, ![131072, 1]⟩
abbrev S1x16 : Shape := ⟨2, ![1, 16]⟩
abbrev S131072x16 : Shape := ⟨2, ![131072, 16]⟩
abbrev S131072x16x1 : Shape := ⟨3, ![131072, 16, 1]⟩
abbrev S131072x1x64 : Shape := ⟨3, ![131072, 1, 64]⟩
abbrev S131072x16x64 : Shape := ⟨3, ![131072, 16, 64]⟩
abbrev S16x64 : Shape := ⟨2, ![16, 64]⟩

abbrev nBuf : Space → Nat
  | .hbm => 30
  | .vmem => 0
  | .smem => 0
  | _ => 0

abbrev bufTy : (tb : Table) → Fin (tcTables nBuf tb) → BufTy
  | .hbm, ⟨0, _⟩ => ⟨S131072x61, .f32⟩
  | .hbm, ⟨1, _⟩ => ⟨S131072x3, .f32⟩
  | .hbm, ⟨2, _⟩ => ⟨S64x64, .f32⟩
  | .hbm, ⟨3, _⟩ => ⟨S64, .f32⟩
  | .hbm, ⟨4, _⟩ => ⟨S131072, .i32⟩
  | .hbm, ⟨5, _⟩ => ⟨S131072x64, .f32⟩
  | .hbm, ⟨6, _⟩ => ⟨S64x64, .f32⟩
  | .hbm, ⟨7, _⟩ => ⟨S131072x64, .f32⟩
  | .hbm, ⟨8, _⟩ => ⟨S1x64, .f32⟩
  | .hbm, ⟨9, _⟩ => ⟨S131072x64, .f32⟩
  | .hbm, ⟨10, _⟩ => ⟨S131072x64, .f32⟩
  | .hbm, ⟨11, _⟩ => ⟨S_, .f32⟩
  | .hbm, ⟨12, _⟩ => ⟨S131072x64, .f32⟩
  | .hbm, ⟨13, _⟩ => ⟨S131072x64, .f32⟩
  | .hbm, ⟨14, _⟩ => ⟨S16, .i32⟩
  | .hbm, ⟨15, _⟩ => ⟨S131072x1, .i32⟩
  | .hbm, ⟨16, _⟩ => ⟨S1x16, .i32⟩
  | .hbm, ⟨17, _⟩ => ⟨S131072x16, .i32⟩
  | .hbm, ⟨18, _⟩ => ⟨S131072x16, .i32⟩
  | .hbm, ⟨19, _⟩ => ⟨S131072x16, .i1⟩
  | .hbm, ⟨20, _⟩ => ⟨S131072x16x1, .i1⟩
  | .hbm, ⟨21, _⟩ => ⟨S131072x1x64, .f32⟩
  | .hbm, ⟨22, _⟩ => ⟨S_, .f32⟩
  | .hbm, ⟨23, _⟩ => ⟨S_, .f32⟩
  | .hbm, ⟨24, _⟩ => ⟨S131072x16x64, .i1⟩
  | .hbm, ⟨25, _⟩ => ⟨S131072x16x64, .f32⟩
  | .hbm, ⟨26, _⟩ => ⟨S131072x16x64, .f32⟩
  | .hbm, ⟨27, _⟩ => ⟨S131072x16x64, .f32⟩
  | .hbm, ⟨28, _⟩ => ⟨S_, .f32⟩
  | .hbm, ⟨29, _⟩ => ⟨S16x64, .f32⟩
  | _, _ => ⟨S131072x61, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Proof.Block.lean ====
/-
  One update block of the segment-maximum body: four 16-lane loads of a segment's row of the accumulator, a counted
  loop that takes the maximum with the rows `[a, z)` of a staged chunk, a remainder loop that makes no trip, four stores
  back. The block is stated once, over any program that goes on after it; both SparseCore calls and both instances of
  the floats use it.
-/
module

public import Idealize.ShloMosaic.Lib.Memref
public import Idealize.ShloMosaic.Lib.Scf
public import Idealize.ShloMosaic.Lib.LoopRemainder
public import Idealize.ShloMosaic.Lib.WholeRead
public import Idealize.ShloMosaic.Lib.Pointwise
public import Idealize.ShloMosaic.Lib.Tactic

@[expose] public section

noncomputable section

namespace Cert.Proof.Block

open Idealize.ShloMosaic
open Idealize.SL Idealize.SL.RA Idealize.SL.BI
open scoped Idealize.SL.BI
open Idealize.SL.BI.BIBase Idealize.SL.BI.Laws Idealize.SL.ProofMode Idealize.SL.Sem

/-- The shape of the table of maxima. -/
abbrev A : Shape := ⟨2, ![16, 64]⟩
/-- The shape of a chunk of rows. -/
abbrev B : Shape := ⟨2, ![256, 128]⟩
/-- The shape of a lane block as it is loaded and stored. -/
abbrev R1 : Shape := ⟨2, ![1, 16]⟩
/-- The shape of a lane block as it is computed with. -/
abbrev L16 : Shape := ⟨1, ![16]⟩

variable {nD : Nat} {τ : Topo} {sig : RefSig} {F : FTy → Type} [FloatOps F]
variable {Ix : Type} [DecidableEq Ix] {Name : Type} [DecidableEq Name] {U : Type} [URA U] {Lvl : Type} [Preorder Lvl]
variable {Λ : Labels}

/-! ## Owning a memref and reading or writing a rectangle of it -/

section Own

variable {Val : EltTy → Type} {sp : Space} {s : Shape} {e : EltTy} {α : Type}

variable {defs : Defs nD τ sig Val Λ} (𝒱 : Variants) (c : Thread nD τ) (bd : Option 𝒱.V) (E : Set Name)
  {Q : α → sProp (MT nD τ sig Ix Val Name U Lvl)}

/-- A load of an owned memref goes on at the rectangle of its contents. -/
theorem own_load {cs : CoreSpace} {m : Memref sig c.2.kind cs s e} {r : Rect s} {hl : m.view.LoadsAt r.toLoadRect}
    {k : (r.shape.Idx → Val e) → Prog (TpuEff nD τ sig Val Λ c.2) α} {X : s.Idx → Val e} {q : PosShare TreeShare} :
    (owns c m q X : sProp (MT nD τ sig Ix Val Name U Lvl)) ⊢ iprop((owns c m q X -∗ wp frame (wpE defs 𝒱 c bd) E (k fun j => X (r.emb j)) Q)
      -∗ wp frame (wpE defs 𝒱 c bd) E (Prog.lift (.load m r.toLoadRect hl) >>= k) Q) := by
  unfold owns
  iintro ⟨%f, %hf, H⟩ HK
  rw [Prog.bind_lift]
  iapply (wp_load 𝒱 c bd E (S := m.view.set) (m.view.setOn_subset_set _)) $$ H
  iintro H
  have e : (fun j => X (r.emb j)) = m.view.readAt Val r.toLoadRect f := by
    funext j; rw [← hf]; rfl
  rw [e]
  iapply HK
  iexists f; isplitr; · ipureintro; exact hf
  iexact H

/-- A store into an owned memref leaves the payload under the rectangle and the old contents beside it. -/
theorem own_store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X Y : s.Idx → Val e}
    (h1 : ∀ x, Y (r.emb x) = w x) (h2 : ∀ y, y ∉ r.set → Y y = X y) :
    (owns c m fullShare X : sProp (MT nD τ sig Ix Val Name U Lvl)) ⊢ iprop((owns c m fullShare Y -∗ wp frame (wpE defs 𝒱 c bd) E (k ⟨⟩) Q)
      -∗ wp frame (wpE defs 𝒱 c bd) E (Prog.lift (.store m r w Finset.univ hx hm) >>= k) Q) := by
  unfold owns
  iintro ⟨%f, %hf, H⟩ HK
  rw [Prog.bind_lift]
  iapply (wp_store 𝒱 c bd E (m := m) (r := r) (w := w) (Mk := Finset.univ) (f := f) (S := m.view.set) (by
    rw [View.setOn_univ]; exact View.set_slice_subset _ _)) $$ H
  iintro H
  iapply HK
  iexists (m.access r).write Val f w Finset.univ
  isplitr
  rotate_left
  · iexact H
  · ipureintro
    funext y
    by_cases hy : y ∈ r.set
    · obtain ⟨x, rfl⟩ : ∃ x, r.emb x = y := r.exists_idx_of_mem hy
      rw [h1]; exact View.read_slice_write_emb r f w (Finset.mem_univ x)
    · rw [h2 y hy, ← hf]
      exact View.read_slice_write_of_not_mem r f w Finset.univ (by rwa [Rect.map_emb_univ])

end Own

/-! ## Values -/

/-- Sixteen lanes of row `r` of an array, from column `o`. -/
def lane {n0 n1 : Nat} [NeZero n0] [NeZero n1] {α : Type} (X : (⟨2, ![n0, n1]⟩ : Shape).Idx → α) (r o : Nat) : L16.Idx → α :=
  fun j => X (ix2 (Fin.ofNat n0 r) (Fin.ofNat n1 (o + (j 0).val)))

/-- The fold of `maximumf` over `n` rows of a column of the staged chunk, from row `lo`, starting at `x`. -/
def mx (b : FVec F B .f32) (col lo : Nat) (x : F .f32) : Nat → F .f32
  | 0 => x
  | n + 1 => FloatOps.maximumf (mx b col lo x n) (b (ix2 (Fin.ofNat 256 (lo + n)) (Fin.ofNat 128 col)))

/-- What a block leaves in the accumulator: row `s` takes the maximum with the chunk's rows `[lo, hi)`, columns from `co`. -/
def upd (X : FVec F A .f32) (s co : Nat) (b : FVec F B .f32) (lo hi : Nat) : FVec F A .f32 :=
  fun p => if (p 0).val = s then mx b (co + (p 1).val) lo (X p) (hi - lo) else X p

/-- The array with sixteen lanes of row `s` from column `o` overwritten. -/
def put {α : Type} (X : A.Idx → α) (s o : Nat) (w : L16.Idx → α) : A.Idx → α :=
  fun p => if h : (p 0).val = s ∧ o ≤ (p 1).val ∧ (p 1).val < o + 16 then w (ix1 ⟨(p 1).val - o, by omega⟩) else X p

/-- A loaded lane block, its leading axis dropped, is the block `lane` reads. -/
theorem lane_get {n0 n1 : Nat} [NeZero n0] [NeZero n1] {α : Type} (X : (⟨2, ![n0, n1]⟩ : Shape).Idx → α) {off : Fin 2 → Nat} {r o : Nat}
    (he : off = ![r, o]) (inb : ∀ a, off a + R1.size a ≤ (⟨2, ![n0, n1]⟩ : Shape).size a) (h : R1.ShapeCasts L16) :
    shapeCast L16 (fun j : R1.Idx => X ((Rect.unit (s := ⟨2, ![n0, n1]⟩) off R1.size inb).emb j)) h = lane X r o := by
  subst he
  funext j
  have h0 := inb 0
  have h1 := inb 1
  have hj := (j 0).isLt
  simp [R1] at h0 h1
  rw [show shapeCast L16 (fun j : R1.Idx => X ((Rect.unit (s := ⟨2, ![n0, n1]⟩) ![r, o] R1.size inb).emb j)) h j = _ from
    shapeCast_dropUnit_apply ![16] _ h j]
  show X _ = X _
  congr 1
  refine Shape.idx_ext₂ ?_ ?_
  · rw [Rect.emb_apply]
    show r + 1 * 0 = r % n0
    rw [Nat.mod_eq_of_lt (by omega)]; omega
  · rw [Rect.emb_apply]
    have hj' : (j 0).val < 16 := hj
    show o + 1 * (j 0).val = (o + (j 0).val) % n1
    rw [Nat.mod_eq_of_lt (by omega)]; omega

/-- Where a block was put, the block is found. -/
theorem put_emb {α : Type} (X : A.Idx → α) {s o : Nat} (w : L16.Idx → α) (inb : ∀ a, ![s, o] a + R1.size a ≤ A.size a)
    (h : L16.ShapeCasts R1) (x : R1.Idx) :
    put X s o w ((Rect.unit (s := A) ![s, o] R1.size inb).emb x) = shapeCast R1 w h x := by
  rw [show shapeCast R1 w h x = _ from shapeCast_addUnit_apply ![16] w h x]
  have h0 : (x 0).val = 0 := by have := (x 0).isLt; simp [R1] at this; omega
  have h1 : (x 1).val < 16 := (x 1).isLt
  have e0 : (((Rect.unit (s := A) ![s, o] R1.size inb).emb x) 0 : Nat) = s := by
    rw [Rect.emb_apply]; show s + 1 * (x 0).val = s; omega
  have e1 : (((Rect.unit (s := A) ![s, o] R1.size inb).emb x) 1 : Nat) = o + (x 1).val := by
    rw [Rect.emb_apply]; show o + 1 * (x 1).val = o + (x 1).val; omega
  unfold put
  rw [dif_pos ⟨e0, by rw [e1]; omega, by rw [e1]; omega⟩]
  congr 1
  funext a
  match a with
  | ⟨0, _⟩ => exact Fin.ext (by show _ - o = (x 1).val; rw [e1]; omega)

/-- Away from a block that was put, nothing changes. -/
theorem put_off {α : Type} (X : A.Idx → α) {s o : Nat} (w : L16.Idx → α) (inb : ∀ a, ![s, o] a + R1.size a ≤ A.size a)
    (y : A.Idx) (hy : y ∉ (Rect.unit (s := A) ![s, o] R1.size inb).set) : put X s o w y = X y := by
  unfold put
  rw [dif_neg]
  rintro ⟨e0, e1, e2⟩
  apply hy
  rw [Rect.mem_set_unit]
  intro a
  match a with
  | ⟨0, _⟩ => exact ⟨le_of_eq e0.symm, by show (y 0).val < s + 1; omega⟩
  | ⟨1, _⟩ => exact ⟨e1, e2⟩

/-! ## Words -/

/-- A word clipped to the chunk's row range. -/
abbrev clip (x : BitVec 32) : BitVec 32 := Scalar.minsi 256#32 (Scalar.maxsi 0#32 x)

/-- The row a clipped word names. -/
def row (x : BitVec 32) : Nat := (clip x).toInt.toNat

/-- The clipped word reads as the word limited to 0…256. -/
theorem clip_eq (x : BitVec 32) : (clip x).toInt = min 256 (max 0 x.toInt) := by
  have h := Affine.minsi (Affine.word 256#32) (Affine.maxsi (Affine.word 0#32) (Affine.word x) rfl) rfl
  have e : (clip x).toInt = min (256#32).toInt (max (0#32).toInt x.toInt) := by
    unfold Affine.IsInt at h; exact h
  rw [e]
  have : (256#32).toInt = 256 := by decide
  have : (0#32).toInt = 0 := by decide
  omega

/-- The row number of a word is the word limited to 0…256. -/
theorem row_eq (x : BitVec 32) : (row x : Int) = min 256 (max 0 x.toInt) := by
  have := clip_eq x
  unfold row; omega

/-- The clipped word reads as the row number. -/
theorem clip_row (x : BitVec 32) : (clip x).toInt = row x := by
  rw [row_eq, clip_eq]

/-- The upper bound of the main loop is the clipped end. -/
theorem ub_eq (x y : BitVec 32) :
    Scalar.addi (clip x) (Scalar.muli (Scalar.divsi (Scalar.subi (clip y) (clip x)) 1#32) 1#32) = clip y := by
  rw [Scalar.muli_divsi_one]
  show clip x + (clip y - clip x) = clip y
  rw [BitVec.add_comm, BitVec.sub_add_cancel]

/-- The main loop of a block. -/
abbrev mainLoop (x y : BitVec 32) : Scf.Loop 32 :=
  ⟨clip x, Scalar.addi (clip x) (Scalar.muli (Scalar.divsi (Scalar.subi (clip y) (clip x)) 1#32) 1#32), 1#32⟩

/-- The remainder loop of a block. -/
abbrev remLoop (x y : BitVec 32) : Scf.Loop 32 :=
  ⟨Scalar.addi (clip x) (Scalar.muli (Scalar.divsi (Scalar.subi (clip y) (clip x)) 1#32) 1#32),
    Scalar.addi (clip x) (Scalar.subi (clip y) (clip x)), 1#32⟩

/-- The loop takes a trip for each row of the range. -/
theorem main_trips (x y : BitVec 32) : (mainLoop x y).trips = row y - row x := by
  show Scf.trips _ _ _ = _
  unfold Scf.trips
  have e : (1#32 : BitVec 32).toInt = 1 := by decide
  rw [e]
  show (((Scalar.addi (clip x) (Scalar.muli (Scalar.divsi (Scalar.subi (clip y) (clip x)) 1#32) 1#32)).toInt - (clip x).toInt + 1 - 1) / 1).toNat = _
  rw [ub_eq, clip_row, clip_row]
  omega

/-- The loop's bounds do not wrap. -/
theorem main_ok (x y : BitVec 32) : (mainLoop x y).OK := by
  have e : (1#32 : BitVec 32).toInt = 1 := by decide
  refine ⟨by show 0 < (1#32 : BitVec 32).toInt; decide, ?_⟩
  show (clip x).toInt + ((mainLoop x y).trips : Int) * (1#32 : BitVec 32).toInt < 2 ^ (32 - 1)
  have h1 := row_eq x
  have h2 := row_eq y
  rw [main_trips, e, clip_row]
  omega

/-- Trip `t` is at row `t` of the range, which lies in the chunk. -/
theorem main_iv (x y : BitVec 32) (t : Fin (mainLoop x y).trips) :
    (Scalar.indexCast (Scf.iv (clip x) 1#32 t)).toNat = row x + t ∧ row x + t < 256 := by
  have e : (1#32 : BitVec 32).toInt = 1 := by decide
  have h := Scf.toInt_iv (main_ok x y) (k := t) (le_of_lt t.isLt)
  have ht : t.val < row y - row x := lt_of_lt_of_eq t.isLt (main_trips x y)
  have h1 := row_eq x
  have h2 := row_eq y
  have h' : (Scf.iv (clip x) 1#32 t).toInt = row x + t := by
    rw [h]
    show (clip x).toInt + (t.val : Int) * (1#32 : BitVec 32).toInt = _
    rw [e, clip_row]; omega
  refine ⟨?_, by omega⟩
  show (Scf.iv (clip x) 1#32 t).toNat = _
  rw [BitVec.toInt_eq_toNat_cond] at h'
  have := (Scf.iv (clip x) 1#32 t).isLt
  split at h' <;> omega

/-- Where the loop is skipped, its range is empty. -/
theorem row_mono_of_not (x y : BitVec 32)
    (h : ¬Scalar.cmpi .ne (Scalar.extui (Scalar.cmpi .sgt (clip y) (clip x))) 0#32 = (1#1 : BitVec 1)) : row y - row x = 0 := by
  by_contra hn
  apply h
  have h1 := clip_row x
  have h2 := clip_row y
  have hs : (clip x).slt (clip y) = true := by
    rw [BitVec.slt_iff_toInt_lt]; omega
  have : Scalar.cmpi .sgt (clip y) (clip x) = (1#1 : BitVec 1) := by
    show BitVec.ofBool ((clip x).slt (clip y)) = 1#1
    rw [hs]; rfl
  rw [this]
  decide

/-! ## The block -/

section Step

variable {β : Type} {defs : Defs nD τ sig (Elt F) Λ} (𝒱 : Variants) (c : Thread nD τ) (bd : Option 𝒱.V) (E : Set Name)
  {Q : β → sProp (MT nD τ sig Ix (Elt F) Name U Lvl)} {R : sProp (MT nD τ sig Ix (Elt F) Name U Lvl)}

/-- The four lane blocks put one after the other are the update of the segment's row. -/
theorem put4 (X : FVec F A .f32) {s o0 o1 o2 o3 : Nat} (hs : s < 16) (e0 : o0 = 0) (e1 : o1 = 16) (e2 : o2 = 32) (e3 : o3 = 48) (b : FVec F B .f32)
    (co lo hi : Nat) :
    put (put (put (put X s o0 (fun j => mx b (co + o0 + (j 0).val) lo (lane X s o0 j) (hi - lo))) s o1
      (fun j => mx b (co + o1 + (j 0).val) lo (lane X s o1 j) (hi - lo))) s o2 (fun j => mx b (co + o2 + (j 0).val) lo (lane X s o2 j) (hi - lo))) s o3
      (fun j => mx b (co + o3 + (j 0).val) lo (lane X s o3 j) (hi - lo)) = upd X s co b lo hi := by
  subst e0 e1 e2 e3
  funext p
  have hp1 : (p 1).val < 64 := (p 1).isLt
  by_cases h0 : (p 0).val = s
  · have hX : ∀ (o : Nat) (ho : o ≤ (p 1).val ∧ (p 1).val < o + 16), lane X s o (ix1 ⟨(p 1).val - o, by omega⟩) = X p := by
      intro o ho
      show X _ = X p
      congr 1
      refine Shape.idx_ext₂ ?_ ?_
      · show s % 16 = _
        rw [Nat.mod_eq_of_lt hs, h0]
      · show (o + ((p 1).val - o)) % 64 = _
        rw [Nat.mod_eq_of_lt (by omega)]; omega
    have hc : ∀ (o : Nat) (ho : o ≤ (p 1).val ∧ (p 1).val < o + 16), co + o + ((p 1).val - o) = co + (p 1).val := by
      intro o ho; omega
    unfold upd put
    rw [if_pos h0]
    split
    · rename_i h
      show mx b (co + 48 + ((p 1).val - 48)) lo (lane X s 48 _) _ = _
      rw [hX 48 h.2, hc 48 h.2]
    · split
      · rename_i h
        show mx b (co + 32 + ((p 1).val - 32)) lo (lane X s 32 _) _ = _
        rw [hX 32 h.2, hc 32 h.2]
      · split
        · rename_i h
          show mx b (co + 16 + ((p 1).val - 16)) lo (lane X s 16 _) _ = _
          rw [hX 16 h.2, hc 16 h.2]
        · split
          · rename_i h
            show mx b (co + 0 + ((p 1).val - 0)) lo (lane X s 0 _) _ = _
            rw [hX 0 h.2, hc 0 h.2]
          · rename_i h1 h2 h3 h4
            exfalso
            simp only [h0, true_and] at h1 h2 h3 h4
            omega
  · unfold upd put
    rw [if_neg h0]
    simp only [h0, false_and, dite_false]

/-- A lane block is not empty. -/
theorem h_R1 : 0 < R1.numel := by decide
/-- A float of the table takes 32 bits. -/
theorem h_bits : EltTy.f32.bits = 32 := rfl
/-- A lane block's leading axis can be dropped, -/
theorem drop_R1 : R1.ShapeCasts L16 := by decide
/-- and put back. -/
theorem add_R1 : L16.ShapeCasts R1 := by decide

/-- The remainder loop makes no trip. -/
theorem rem_for {E' : Type → Type _} {σ : Type} (x y : BitVec 32) (ok : (remLoop x y).OK) (init : σ) (body : Fin (remLoop x y).trips → σ → Prog E' σ) :
    Scf.Loop.for (remLoop x y) ok init body = .ret init := Scf.for_rem_eq _ _ ok init body

/-- One block: it updates the accumulator, reads the chunk, and goes on. -/
theorem blk_step {acc : Memref sig c.2.kind .vmem A .f32} {buf : Memref sig c.2.kind .vmem B .f32} {X : FVec F A .f32} {b : FVec F B .f32}
    {x y : BitVec 32} {s o0 o1 o2 o3 c0 c1 c2 c3 : Nat} {K : Prog (TpuEff nD τ sig (Elt F) Λ c.2) β}
    {i0 : ∀ a, ![s, o0] a + R1.size a ≤ A.size a} {i1 : ∀ a, ![s, o1] a + R1.size a ≤ A.size a}
    {i2 : ∀ a, ![s, o2] a + R1.size a ≤ A.size a} {i3 : ∀ a, ![s, o3] a + R1.size a ≤ A.size a}
    {p0 p1 p2 p3 : Fin (mainLoop x y).trips → Fin 2 → Nat}
    {ok : Scalar.cmpi .ne (Scalar.extui (Scalar.cmpi .sgt (clip y) (clip x))) 0#32 = (1#1 : BitVec 1) → (mainLoop x y).OK}
    {ok' : Scalar.cmpi .ne (Scalar.extui (Scalar.cmpi .sgt (clip y) (clip x))) 0#32 = (1#1 : BitVec 1) → (remLoop x y).OK}
    {j0 : Scalar.cmpi .ne (Scalar.extui (Scalar.cmpi .sgt (clip y) (clip x))) 0#32 = (1#1 : BitVec 1) → ∀ t a, p0 t a + R1.size a ≤ B.size a}
    {j1 : Scalar.cmpi .ne (Scalar.extui (Scalar.cmpi .sgt (clip y) (clip x))) 0#32 = (1#1 : BitVec 1) → ∀ t a, p1 t a + R1.size a ≤ B.size a}
    {j2 : Scalar.cmpi .ne (Scalar.extui (Scalar.cmpi .sgt (clip y) (clip x))) 0#32 = (1#1 : BitVec 1) → ∀ t a, p2 t a + R1.size a ≤ B.size a}
    {j3 : Scalar.cmpi .ne (Scalar.extui (Scalar.cmpi .sgt (clip y) (clip x))) 0#32 = (1#1 : BitVec 1) → ∀ t a, p3 t a + R1.size a ≤ B.size a}
    {rem : Scalar.cmpi .ne (Scalar.extui (Scalar.cmpi .sgt (clip y) (clip x))) 0#32 = (1#1 : BitVec 1) → Fin (remLoop x y).trips →
      FVec F L16 .f32 × FVec F L16 .f32 × FVec F L16 .f32 × FVec F L16 .f32 →
      Prog (TpuEff nD τ sig (Elt F) Λ c.2) (FVec F L16 .f32 × FVec F L16 .f32 × FVec F L16 .f32 × FVec F L16 .f32)}
    (hp : ∀ t, p0 t = ![(Scalar.indexCast (Scf.iv (clip x) 1#32 t)).toNat, c0] ∧ p1 t = ![(Scalar.indexCast (Scf.iv (clip x) 1#32 t)).toNat, c1] ∧
      p2 t = ![(Scalar.indexCast (Scf.iv (clip x) 1#32 t)).toNat, c2] ∧ p3 t = ![(Scalar.indexCast (Scf.iv (clip x) 1#32 t)).toNat, c3])
    (hs : s < 16 ∧ o0 = 0 ∧ o1 = 16 ∧ o2 = 32 ∧ o3 = 48 ∧ c0 + 16 = c1 ∧ c0 + 32 = c2 ∧ c0 + 48 = c3)
    (hK : (owns c acc fullShare (upd X s c0 b (row x) (row y)) ∗ owns c buf fullShare b ∗ R : sProp (MT nD τ sig Ix (Elt F) Name U Lvl)) ⊢ wp frame (wpE defs 𝒱 c bd) E K Q) :
    (owns c acc fullShare X ∗ owns c buf fullShare b ∗ R : sProp (MT nD τ sig Ix (Elt F) Name U Lvl)) ⊢ wp frame (wpE defs 𝒱 c bd) E (do
      if h : Scalar.cmpi .ne (Scalar.extui (Scalar.cmpi .sgt (clip y) (clip x))) 0#32 = (1#1 : BitVec 1) then do
        let v0 : Vec F R1 .f32 ← Prog.lift (.load acc (Rect.unit (s := A) ![s, o0] R1.size i0).toLoadRect (View.loadsAt_vmem h_R1))
        let v1 : Vec F R1 .f32 ← Prog.lift (.load acc (Rect.unit (s := A) ![s, o1] R1.size i1).toLoadRect (View.loadsAt_vmem h_R1))
        let v2 : Vec F R1 .f32 ← Prog.lift (.load acc (Rect.unit (s := A) ![s, o2] R1.size i2).toLoadRect (View.loadsAt_vmem h_R1))
        let v3 : Vec F R1 .f32 ← Prog.lift (.load acc (Rect.unit (s := A) ![s, o3] R1.size i3).toLoadRect (View.loadsAt_vmem h_R1))
        let (w0, w1, w2, w3) ← Scf.Loop.for (mainLoop x y) (ok h) (shapeCast L16 v0 drop_R1, shapeCast L16 v1 drop_R1, shapeCast L16 v2 drop_R1, shapeCast L16 v3 drop_R1)
          fun t (a0, a1, a2, a3) => do
            let u0 : Vec F R1 .f32 ← Prog.lift (.load buf (Rect.unit (s := B) (p0 t) R1.size (j0 h t)).toLoadRect (View.loadsAt_vmem h_R1))
            let u1 : Vec F R1 .f32 ← Prog.lift (.load buf (Rect.unit (s := B) (p1 t) R1.size (j1 h t)).toLoadRect (View.loadsAt_vmem h_R1))
            let u2 : Vec F R1 .f32 ← Prog.lift (.load buf (Rect.unit (s := B) (p2 t) R1.size (j2 h t)).toLoadRect (View.loadsAt_vmem h_R1))
            let u3 : Vec F R1 .f32 ← Prog.lift (.load buf (Rect.unit (s := B) (p3 t) R1.size (j3 h t)).toLoadRect (View.loadsAt_vmem h_R1))
            pure (maximumf a0 (shapeCast L16 u0 drop_R1), maximumf a1 (shapeCast L16 u1 drop_R1), maximumf a2 (shapeCast L16 u2 drop_R1), maximumf a3 (shapeCast L16 u3 drop_R1))
        let (w0, w1, w2, w3) ← Scf.Loop.for (remLoop x y) (ok' h) (w0, w1, w2, w3) (rem h)
        let _ : Vec F R1 .f32 ← Prog.lift (.load acc (Rect.unit (s := A) ![s, o0] R1.size i0).toLoadRect (View.loadsAt_vmem h_R1))
        Prog.lift (.store acc (Rect.unit (s := A) ![s, o0] R1.size i0) (shapeCast R1 w0 add_R1) Finset.univ (View.stores_vmem_bits_univ h_R1 h_bits) (.inl rfl))
        let _ : Vec F R1 .f32 ← Prog.lift (.load acc (Rect.unit (s := A) ![s, o1] R1.size i1).toLoadRect (View.loadsAt_vmem h_R1))
        Prog.lift (.store acc (Rect.unit (s := A) ![s, o1] R1.size i1) (shapeCast R1 w1 add_R1) Finset.univ (View.stores_vmem_bits_univ h_R1 h_bits) (.inl rfl))
        let _ : Vec F R1 .f32 ← Prog.lift (.load acc (Rect.unit (s := A) ![s, o2] R1.size i2).toLoadRect (View.loadsAt_vmem h_R1))
        Prog.lift (.store acc (Rect.unit (s := A) ![s, o2] R1.size i2) (shapeCast R1 w2 add_R1) Finset.univ (View.stores_vmem_bits_univ h_R1 h_bits) (.inl rfl))
        let _ : Vec F R1 .f32 ← Prog.lift (.load acc (Rect.unit (s := A) ![s, o3] R1.size i3).toLoadRect (View.loadsAt_vmem h_R1))
        Prog.lift (.store acc (Rect.unit (s := A) ![s, o3] R1.size i3) (shapeCast R1 w3 add_R1) Finset.univ (View.stores_vmem_bits_univ h_R1 h_bits) (.inl rfl))
        pure ⟨⟩
      else do
        pure ⟨⟩
      K) Q := by
  obtain ⟨hs, e0, e1, e2, e3, f1, f2, f3⟩ := hs
  split
  case isFalse h =>
    have e : upd X s c0 b (row x) (row y) = X := by
      funext p; unfold upd; rw [row_mono_of_not x y h]; split <;> rfl
    rw [e] at hK
    exact hK
  case isTrue h =>
    iintro ⟨HA, HB, HR⟩
    iapply (own_load 𝒱 c bd E) $$ HA
    iintro HA
    iapply (own_load 𝒱 c bd E) $$ HA
    iintro HA
    iapply (own_load 𝒱 c bd E) $$ HA
    iintro HA
    iapply (own_load 𝒱 c bd E) $$ HA
    iintro HA
    iapply (Scf.wp_for_bind frame (wpE defs 𝒱 c bd) E _ _ _ (ok h) _ _ (fun k a => iprop(owns c buf fullShare b ∗
      ⌜a = ((fun j => mx b (c0 + o0 + (j 0).val) (row x) (lane X s o0 j) k), (fun j => mx b (c0 + o1 + (j 0).val) (row x) (lane X s o1 j) k),
        (fun j => mx b (c0 + o2 + (j 0).val) (row x) (lane X s o2 j) k), (fun j => mx b (c0 + o3 + (j 0).val) (row x) (lane X s o3 j) k))⌝)) ?_) $$ [HB]
    · intro t ⟨a0, a1, a2, a3⟩
      obtain ⟨q0, q1, q2, q3⟩ := hp t
      obtain ⟨hr, hr'⟩ := main_iv x y t
      rw [hr] at q0 q1 q2 q3
      iintro ⟨HB, %ha⟩
      obtain ⟨ha0, ha1, ha2, ha3⟩ : _ ∧ _ ∧ _ ∧ _ := ⟨congrArg (·.1) ha, congrArg (·.2.1) ha, congrArg (·.2.2.1) ha, congrArg (·.2.2.2) ha⟩
      dsimp only at ha0 ha1 ha2 ha3
      iapply (own_load 𝒱 c bd E) $$ HB
      iintro HB
      iapply (own_load 𝒱 c bd E) $$ HB
      iintro HB
      iapply (own_load 𝒱 c bd E) $$ HB
      iintro HB
      iapply (own_load 𝒱 c bd E) $$ HB
      iintro HB
      iapply (le_wp_ret frame (wpE defs 𝒱 c bd) E)
      isplitl [HB]
      · iexact HB
      ipureintro
      have key : ∀ (o cc : Nat) (ho : c0 + o = cc) (p : Fin 2 → Nat) (hp : p = ![row x + t, cc]) (hc : ∀ a, p a + R1.size a ≤ B.size a),
          maximumf (fun j => mx b (c0 + o + (j 0).val) (row x) (lane X s o j) t.val)
            (shapeCast L16 (fun j : R1.Idx => b ((Rect.unit (s := B) p R1.size hc).emb j)) drop_R1)
          = fun j => mx b (c0 + o + (j 0).val) (row x) (lane X s o j) (t.val + 1) := by
        intro o cc ho p hp hc
        have e := lane_get (n0 := 256) (n1 := 128) b hp hc drop_R1
        funext j
        show FloatOps.maximumf _ (shapeCast L16 (fun j : R1.Idx => b ((Rect.unit (s := B) p R1.size hc).emb j)) drop_R1 j) = _
        rw [show shapeCast L16 (fun j : R1.Idx => b ((Rect.unit (s := B) p R1.size hc).emb j)) drop_R1 j = _ from congrFun e j]
        subst ho
        rfl
      subst ha0 ha1 ha2 ha3
      refine Prod.ext (key o0 c0 (by omega) _ q0 _) (Prod.ext (key o1 c1 (by omega) _ q1 _) (Prod.ext (key o2 c2 (by omega) _ q2 _) (key o3 c3 (by omega) _ q3 _)))
    · isplitl [HB]
      · iexact HB
      · ipureintro
        exact Prod.ext (lane_get X rfl i0 drop_R1) (Prod.ext (lane_get X rfl i1 drop_R1) (Prod.ext (lane_get X rfl i2 drop_R1) (lane_get X rfl i3 drop_R1)))
    · iintro %a ⟨HB, %ha⟩
      subst ha
      rw [show Scf.trips (mainLoop x y).lb (mainLoop x y).ub (mainLoop x y).st = _ from main_trips x y]
      dsimp only
      rw [rem_for]
      iapply (own_load 𝒱 c bd E) $$ HA
      iintro HA
      iapply (own_store 𝒱 c bd E (put_emb X _ i0 add_R1) (put_off X _ i0)) $$ HA
      iintro HA
      iapply (own_load 𝒱 c bd E) $$ HA
      iintro HA
      iapply (own_store 𝒱 c bd E (put_emb _ _ i1 add_R1) (put_off _ _ i1)) $$ HA
      iintro HA
      iapply (own_load 𝒱 c bd E) $$ HA
      iintro HA
      iapply (own_store 𝒱 c bd E (put_emb _ _ i2 add_R1) (put_off _ _ i2)) $$ HA
      iintro HA
      iapply (own_load 𝒱 c bd E) $$ HA
      iintro HA
      iapply (own_store 𝒱 c bd E (put_emb _ _ i3 add_R1) (put_off _ _ i3)) $$ HA
      iintro HA
      rw [put4 X hs e0 e1 e2 e3]
      iapply hK
      isplitl [HA]
      · iexact HA
      isplitl [HB]
      · iexact HB
      · iexact HR

end Step

end Cert.Proof.Block
end
-- ==== Proof.Steps.lean ====
/-
  The steps of the segment-maximum body around its update blocks, each stated over whatever program goes on after it: a
  bind, a return, an assumption, the fill of the accumulator with one value sixteen lanes at a time, the loads of the two
  tables, and the copies in and out.
-/
module

public import proofs.«01_k».proof.Proof.Block
public import Idealize.ShloMosaic.Lib.Transfers

@[expose] public section

noncomputable section

namespace Cert.Proof.Block

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F]
variable {Ix : Type} [DecidableEq Ix] {Name : Type} [DecidableEq Name] {U : Type} [URA U] {Lvl : Type} [Preorder Lvl]
variable {Λ : Labels}

/-! ## The side conditions a block assumes -/

section Checks

attribute [local irreducible] Scalar.minsi Scalar.maxsi Scalar.subi Scalar.addi Scalar.muli Scalar.cmpi Scalar.extui Scalar.divsi

/-- The offset of one sixteen-lane load of a chunk, at trip `t` of a block's loop from column `c`, is within the chunk. -/
abbrev Inb {n : Nat} (x : BitVec 32) (c : Nat) (t : Fin n) : Prop :=
  ∀ a, (![(Scalar.indexCast (Scf.iv (clip x) 1#32 t)).toNat, c] : Fin 2 → Nat) a + R1.size a ≤ B.size a

/-- The same of the remainder loop of a block, whose rows are counted on from where the main loop stopped. -/
abbrev InbR {n : Nat} (x y : BitVec 32) (c : Nat) (t : Fin n) : Prop :=
  ∀ a, (![(Scalar.indexCast (Scf.iv (Scalar.addi (clip x) (Scalar.muli (Scalar.divsi (Scalar.subi (clip y) (clip x)) 1#32) 1#32)) 1#32 t)).toNat, c] : Fin 2 → Nat) a
    + R1.size a ≤ B.size a

/-- A row of the loop's range lies in the chunk, -/
theorem inb_main (x y : BitVec 32) {c : Nat} (hc : c + 16 ≤ 128) (t : Fin (mainLoop x y).trips) : Inb x c t := by
  have h := main_iv x y t
  intro a
  match a with
  | ⟨0, _⟩ => show (Scalar.indexCast (Scf.iv (clip x) 1#32 t)).toNat + 1 ≤ 256; omega
  | ⟨1, _⟩ => exact hc

/-- and the remainder loop has no trip. -/
theorem inb_rem (x y : BitVec 32) (c : Nat) (t : Fin (remLoop x y).trips) : InbR x y c t :=
  (Scf.rem_no_trip (clip x) (Scalar.subi (clip y) (clip x)) t).elim

/-- All the side conditions of one segment's half: its blocks at the four chunks. -/
theorem side (x0 y0 x1 y1 x2 y2 x3 y3 : BitVec 32) {c0 c1 c2 c3 : Nat} (hc : c0 + 16 ≤ 128 ∧ c1 + 16 ≤ 128 ∧ c2 + 16 ≤ 128 ∧ c3 + 16 ≤ 128)
    {C0 C1 C2 C3 : Prop} :
    ((C0 → (mainLoop x0 y0).OK) ∧
      (∀ t : Fin (mainLoop x0 y0).trips, C0 → Inb x0 c0 t) ∧ (∀ t : Fin (mainLoop x0 y0).trips, C0 → Inb x0 c1 t) ∧
      (∀ t : Fin (mainLoop x0 y0).trips, C0 → Inb x0 c2 t) ∧ (∀ t : Fin (mainLoop x0 y0).trips, C0 → Inb x0 c3 t) ∧
      (C0 → (remLoop x0 y0).OK) ∧
      (∀ t : Fin (remLoop x0 y0).trips, C0 → InbR x0 y0 c0 t) ∧ (∀ t : Fin (remLoop x0 y0).trips, C0 → InbR x0 y0 c1 t) ∧
      (∀ t : Fin (remLoop x0 y0).trips, C0 → InbR x0 y0 c2 t) ∧ (∀ t : Fin (remLoop x0 y0).trips, C0 → InbR x0 y0 c3 t) ∧
      (C1 → (mainLoop x1 y1).OK) ∧
      (∀ t : Fin (mainLoop x1 y1).trips, C1 → Inb x1 c0 t) ∧ (∀ t : Fin (mainLoop x1 y1).trips, C1 → Inb x1 c1 t) ∧
      (∀ t : Fin (mainLoop x1 y1).trips, C1 → Inb x1 c2 t) ∧ (∀ t : Fin (mainLoop x1 y1).trips, C1 → Inb x1 c3 t) ∧
      (C1 → (remLoop x1 y1).OK) ∧
      (∀ t : Fin (remLoop x1 y1).trips, C1 → InbR x1 y1 c0 t) ∧ (∀ t : Fin (remLoop x1 y1).trips, C1 → InbR x1 y1 c1 t) ∧
      (∀ t : Fin (remLoop x1 y1).trips, C1 → InbR x1 y1 c2 t) ∧ (∀ t : Fin (remLoop x1 y1).trips, C1 → InbR x1 y1 c3 t) ∧
      (C2 → (mainLoop x2 y2).OK) ∧
      (∀ t : Fin (mainLoop x2 y2).trips, C2 → Inb x2 c0 t) ∧ (∀ t : Fin (mainLoop x2 y2).trips, C2 → Inb x2 c1 t) ∧
      (∀ t : Fin (mainLoop x2 y2).trips, C2 → Inb x2 c2 t) ∧ (∀ t : Fin (mainLoop x2 y2).trips, C2 → Inb x2 c3 t) ∧
      (C2 → (remLoop x2 y2).OK) ∧
      (∀ t : Fin (remLoop x2 y2).trips, C2 → InbR x2 y2 c0 t) ∧ (∀ t : Fin (remLoop x2 y2).trips, C2 → InbR x2 y2 c1 t) ∧
      (∀ t : Fin (remLoop x2 y2).trips, C2 → InbR x2 y2 c2 t) ∧ (∀ t : Fin (remLoop x2 y2).trips, C2 → InbR x2 y2 c3 t) ∧
      (C3 → (mainLoop x3 y3).OK) ∧
      (∀ t : Fin (mainLoop x3 y3).trips, C3 → Inb x3 c0 t)) ∧
    ((∀ t : Fin (mainLoop x3 y3).trips, C3 → Inb x3 c1 t) ∧
      (∀ t : Fin (mainLoop x3 y3).trips, C3 → Inb x3 c2 t) ∧ (∀ t : Fin (mainLoop x3 y3).trips, C3 → Inb x3 c3 t) ∧
      (C3 → (remLoop x3 y3).OK) ∧
      (∀ t : Fin (remLoop x3 y3).trips, C3 → InbR x3 y3 c0 t) ∧ (∀ t : Fin (remLoop x3 y3).trips, C3 → InbR x3 y3 c1 t) ∧
      (∀ t : Fin (remLoop x3 y3).trips, C3 → InbR x3 y3 c2 t) ∧ (∀ t : Fin (remLoop x3 y3).trips, C3 → InbR x3 y3 c3 t)) := by
  obtain ⟨h0, h1, h2, h3⟩ := hc
  exact ⟨⟨fun _ => main_ok _ _, fun t _ => inb_main _ _ h0 t, fun t _ => inb_main _ _ h1 t, fun t _ => inb_main _ _ h2 t, fun t _ => inb_main _ _ h3 t,
    fun _ => Scf.rem_ok _ _, fun t _ => inb_rem _ _ _ t, fun t _ => inb_rem _ _ _ t, fun t _ => inb_rem _ _ _ t, fun t _ => inb_rem _ _ _ t,
    fun _ => main_ok _ _, fun t _ => inb_main _ _ h0 t, fun t _ => inb_main _ _ h1 t, fun t _ => inb_main _ _ h2 t, fun t _ => inb_main _ _ h3 t,
    fun _ => Scf.rem_ok _ _, fun t _ => inb_rem _ _ _ t, fun t _ => inb_rem _ _ _ t, fun t _ => inb_rem _ _ _ t, fun t _ => inb_rem _ _ _ t,
    fun _ => main_ok _ _, fun t _ => inb_main _ _ h0 t, fun t _ => inb_main _ _ h1 t, fun t _ => inb_main _ _ h2 t, fun t _ => inb_main _ _ h3 t,
    fun _ => Scf.rem_ok _ _, fun t _ => inb_rem _ _ _ t, fun t _ => inb_rem _ _ _ t, fun t _ => inb_rem _ _ _ t, fun t _ => inb_rem _ _ _ t,
    fun _ => main_ok _ _, fun t _ => inb_main _ _ h0 t⟩,
    fun t _ => inb_main _ _ h1 t, fun t _ => inb_main _ _ h2 t, fun t _ => inb_main _ _ h3 t, fun _ => Scf.rem_ok _ _, fun t _ => inb_rem _ _ _ t,
    fun t _ => inb_rem _ _ _ t, fun t _ => inb_rem _ _ _ t, fun t _ => inb_rem _ _ _ t⟩

end Checks

/-! ## Rearranging what is held -/

section Perm

variable {nD' : Nat} {τ' : Topo} {sig' : RefSig} {Ix' : Type} [DecidableEq Ix'] {Val' : EltTy → Type} {Name' : Type} [DecidableEq Name'] {U' : Type} [URA U'] {Lvl' : Type}
  {A A' Wa Wb Ba Bb Ha Hb S0 S1 S2 S3 Sa Sb Va Vb Ra Rb Rc Mw Ow F2 Z G J Q : sProp (MT nD' τ' sig' Ix' Val' Name' U' Lvl')}

/-- From the first table's copy to the second's. -/
theorem perm_tables (h : iprop(Sb ∗ Wb ∗ Rb ∗ Mw ∗ Ow ∗ (G ∗ Sa ∗ Wa ∗ Ra)) ⊢ Q) : iprop(Sa ∗ Wa ∗ Ra ∗ Mw ∗ Ow ∗ (Sb ∗ Wb ∗ Rb ∗ G)) ⊢ Q := by
  refine BIBase.Entails.trans ?_ h
  iintro ⟨H1, H2, H3, H4, H5, H6, H7, H8, H9⟩
  iframe

/-- From the tables' copies to the fill of the accumulator. -/
theorem perm_fill (hA : A ⊢ A') (h : iprop(A' ∗ Wa ∗ Wb ∗ Ba ∗ (Bb ∗ S0 ∗ Va ∗ Mw ∗ Ow ∗ (G ∗ Sa ∗ Sb ∗ Ra ∗ Rb))) ⊢ Q) :
    iprop(Sb ∗ Wb ∗ Rb ∗ Mw ∗ Ow ∗ ((A ∗ Ba ∗ Bb ∗ S0 ∗ Va ∗ G) ∗ Sa ∗ Wa ∗ Ra)) ⊢ Q := by
  refine BIBase.Entails.trans ?_ h
  iintro ⟨H1, H2, H3, H4, H5, ⟨HA, H7, H8, H9, H10, H11⟩, H12, H13, H14⟩
  ihave HA := hA $$ HA
  iframe

/-- From the tables' loads to the first chunk's copy. -/
theorem perm_first (hA : A ⊢ A') (h : iprop(A' ∗ Ba ∗ (Bb ∗ S0 ∗ Va ∗ Mw ∗ Ow ∗ (S1 ∗ Vb ∗ S2 ∗ S3 ∗ Z ∗ Rc ∗ J ∗ Wa ∗ Wb))) ⊢ Q) :
    iprop(A ∗ Wa ∗ Wb ∗ Ba ∗ (Bb ∗ S0 ∗ Va ∗ Mw ∗ Ow ∗ ((S1 ∗ Vb ∗ S2 ∗ S3 ∗ Z ∗ Rc) ∗ J))) ⊢ Q := by
  refine BIBase.Entails.trans ?_ h
  iintro ⟨HA, H2, H3, H4, H5, H6, H7, H8, H9, ⟨H10, H11, H12, H13, H14, H15⟩, H16⟩
  ihave HA := hA $$ HA
  iframe

/-- From the first chunk's copy to the second's. -/
theorem perm_second (h : iprop(A ∗ Ba ∗ (F2 ∗ S1 ∗ Vb ∗ Mw ∗ Ow ∗ G)) ⊢ Q) : iprop(A ∗ Ba ∗ (F2 ∗ Mw ∗ Ow ∗ (S1 ∗ Vb ∗ G))) ⊢ Q := by
  refine BIBase.Entails.trans ?_ h
  iintro ⟨H1, H2, H3, H4, H5, H6, H7, H8⟩
  iframe

/-- From the third chunk's blocks to the wait for the fourth, with no further copy. -/
theorem perm_last (h : iprop(A ∗ F2 ∗ (Ba ∗ Mw ∗ Ow ∗ Z ∗ (Rc ∗ J ∗ Va))) ⊢ Q) : iprop(A ∗ Ba ∗ (F2 ∗ Z ∗ Va ∗ Mw ∗ Ow ∗ (Rc ∗ J))) ⊢ Q := by
  refine BIBase.Entails.trans ?_ h
  iintro ⟨H1, H2, H3, H4, H5, H6, H7, H8, H9⟩
  iframe

/-- From the last block to the copy out. -/
theorem perm_out (h : iprop(A ∗ Z ∗ Rc ∗ Mw ∗ Ow ∗ (J ∗ Va ∗ Ba ∗ Bb ∗ Vb)) ⊢ Q) : iprop(A ∗ Bb ∗ (Ba ∗ Z ∗ Vb ∗ Mw ∗ Ow ∗ (Rc ∗ J ∗ Va))) ⊢ Q := by
  refine BIBase.Entails.trans ?_ h
  iintro ⟨H1, H2, H3, H4, H5, H6, H7, H8, H9, H10⟩
  iframe

end Perm

/-! ## What one tile leaves in its accumulator -/

section Value

/-- The shape of a table of the segments' bounds. -/
abbrev V16 : Shape := ⟨1, ![16]⟩
/-- The shape of one entry of it. -/
abbrev V1 : Shape := ⟨1, ![1]⟩

/-- The table keeps its shape, -/
theorem casts16 : V16.ShapeCasts V16 := by decide
/-- its entries can be sliced out, -/
theorem slices16 (s : Fin 16) : V16.Slices ![s.val] V1 := ⟨rfl, fun a => by match a with | ⟨0, _⟩ => exact s.isLt⟩
/-- and read. -/
theorem inpos1 : ∀ a, (![0] : Fin 1 → Nat) a < V1.size a := by decide

/-- Entry `s` of a table, as the body reads it. -/
def entry (V : IVec V16 32) (s : Fin 16) : BitVec 32 :=
  extractAt ![0] (extractStridedSlice V1 ![s.val] (shapeCast V16 V casts16) (slices16 s)) inpos1

/-- The bound `w`, counted from row `v` of the call and limited to the tile, counted from row `k` of the tile. -/
def lim (v w k : BitVec 32) : BitVec 32 := Scalar.subi (Scalar.minsi 1024#32 (Scalar.maxsi 0#32 (Scalar.subi w v))) k

/-- The two blocks of one segment at one chunk. -/
def segUpd (v : BitVec 32) (V W : IVec V16 32) (k : BitVec 32) (H : FVec F B .f32) (X : FVec F A .f32) (s : Fin 16) : FVec F A .f32 :=
  upd (upd X s.val 0 H (row (lim v (entry V s) k)) (row (lim v (entry W s) k))) s.val 64 H
    (row (lim v (Scalar.subi (entry V s) 65536#32) k)) (row (lim v (Scalar.subi (entry W s) 65536#32) k))

/-- The blocks of one chunk. -/
def chunkUpd (v : BitVec 32) (V W : IVec V16 32) (k : BitVec 32) (H : FVec F B .f32) (X : FVec F A .f32) : FVec F A .f32 :=
  ([0, 1, 2, 3, 4, 5, 6, 7, 8, 9, 10, 11, 12, 13, 14, 15] : List (Fin 16)).foldl (segUpd v V W k H) X

/-- What a tile computes from its four chunks. -/
def tileVal (v : BitVec 32) (V W : IVec V16 32) (H0 H1 H2 H3 : FVec F B .f32) : FVec F A .f32 :=
  chunkUpd v V W 768#32 H3 (chunkUpd v V W 512#32 H2 (chunkUpd v V W 256#32 H1 (chunkUpd v V W 0#32 H0
    (fun _ => Scalar.ofBits .f32 0xFF800000#32))))

end Value

section Step

variable {α β : Type} {defs : Defs nD τ sig (Elt F) Λ} (𝒱 : Variants) (c : Thread nD τ) (bd : Option 𝒱.V) (E : Set Name)
  {Q : β → sProp (MT nD τ sig Ix (Elt F) Name U Lvl)} {P R : sProp (MT nD τ sig Ix (Elt F) Name U Lvl)}

/-- A step and what follows it, one after the other. -/
theorem bind_step {p : Prog (TpuEff nD τ sig (Elt F) Λ c.2) α} {f : α → Prog (TpuEff nD τ sig (Elt F) Λ c.2) β}
    (h : P ⊢ wp frame (wpE defs 𝒱 c bd) E p (fun r => wp frame (wpE defs 𝒱 c bd) E (f r) Q)) :
    P ⊢ wp frame (wpE defs 𝒱 c bd) E (p >>= f) Q := by
  rw [wp_bind]; exact h

/-- The end of a program. -/
theorem pure_step {a : β} (h : P ⊢ Q a) : P ⊢ wp frame (wpE defs 𝒱 c bd) E (pure a) Q :=
  h.trans (le_wp_ret frame (wpE defs 𝒱 c bd) E a Q)

/-- A side condition that holds can be passed. -/
theorem assume_step {C : Prop} {dec : Decidable C} {k : PLift C → Prog (TpuEff nD τ sig (Elt F) Λ c.2) β} (hC : C)
    (h : P ⊢ wp frame (wpE defs 𝒱 c bd) E (k ⟨hC⟩) Q) :
    P ⊢ wp frame (wpE defs 𝒱 c bd) E (Prog.lift (TpuEff.assume C dec) >>= k) Q := by
  rw [Prog.bind_lift, wp_assume_of 𝒱 c bd E hC]; exact h

/-- The accumulator, its first `n` groups of sixteen lanes at `z`. -/
def fill (acc : Memref sig c.2.kind .vmem A .f32) (z : F .f32) (n : Nat) : sProp (MT nD τ sig Ix (Elt F) Name U Lvl) :=
  iprop(∃ X : FVec F A .f32, ⌜∀ p : A.Idx, (p 0).val * 64 + (p 1).val < 16 * n → X p = z⌝ ∗ owns c acc fullShare X)

/-- A load while the table is being filled changes nothing. -/
theorem fill_load {acc : Memref sig c.2.kind .vmem A .f32} {z : F .f32} {n : Nat} {r : Rect A} {hl : acc.view.LoadsAt r.toLoadRect}
    {k : (r.shape.Idx → Elt F .f32) → Prog (TpuEff nD τ sig (Elt F) Λ c.2) β}
    (h : ∀ v, (fill c acc z n ∗ R : sProp (MT nD τ sig Ix (Elt F) Name U Lvl)) ⊢ wp frame (wpE defs 𝒱 c bd) E (k v) Q) :
    (fill c acc z n ∗ R : sProp (MT nD τ sig Ix (Elt F) Name U Lvl)) ⊢ wp frame (wpE defs 𝒱 c bd) E (Prog.lift (.load acc r.toLoadRect hl) >>= k) Q := by
  unfold fill at h ⊢
  iintro ⟨⟨%X, %hX, HA⟩, HR⟩
  iapply (own_load 𝒱 c bd E) $$ HA
  iintro HA
  iapply (h _)
  isplitr [HR]
  · iexists X; isplitr; · ipureintro; exact hX
    iexact HA
  · iexact HR

/-- The next block of the table is filled. -/
theorem fill_store {acc : Memref sig c.2.kind .vmem A .f32} {z : F .f32} {n s o : Nat} {i0 : ∀ a, ![s, o] a + R1.size a ≤ A.size a}
    {w : R1.Idx → Elt F .f32} {hx : (acc.access (Rect.unit (s := A) ![s, o] R1.size i0)).Stores Finset.univ}
    {hm : (Finset.univ : Finset (Rect.unit (s := A) ![s, o] R1.size i0).shape.Idx) = Finset.univ ∨ ∀ a, (Rect.unit (s := A) ![s, o] R1.size i0).stride a = 1}
    {k : PUnit → Prog (TpuEff nD τ sig (Elt F) Λ c.2) β} (hn : s * 64 + o = 16 * n ∧ o + 16 ≤ 64) (hw : w = fun _ => z)
    (h : (fill c acc z (n + 1) ∗ R : sProp (MT nD τ sig Ix (Elt F) Name U Lvl)) ⊢ wp frame (wpE defs 𝒱 c bd) E (k ⟨⟩) Q) :
    (fill c acc z n ∗ R : sProp (MT nD τ sig Ix (Elt F) Name U Lvl)) ⊢ wp frame (wpE defs 𝒱 c bd) E
      (Prog.lift (.store acc (Rect.unit (s := A) ![s, o] R1.size i0) w Finset.univ hx hm) >>= k) Q := by
  subst hw
  unfold fill at h ⊢
  iintro ⟨⟨%X, %hX, HA⟩, HR⟩
  iapply (own_store 𝒱 c bd E (X := X) (Y := put X s o (fun _ => z)) (r := Rect.unit (s := A) ![s, o] R1.size i0)
    (fun x => put_emb X (fun _ => z) i0 add_R1 x) (put_off X _ i0)) $$ HA
  iintro HA
  iapply h
  isplitr [HR]
  · iexists (put X s o (fun _ => z)); isplitr
    · ipureintro
      intro p hp
      have hp1 : (p 1).val < 64 := (p 1).isLt
      unfold put
      split
      · rfl
      · rename_i hno
        refine hX p ?_
        by_contra hc
        apply hno
        obtain ⟨hn, ho⟩ := hn
        have : (p 0).val = s := by omega
        refine ⟨this, ?_, ?_⟩ <;> subst this <;> omega
    iexact HA
  · iexact HR

/-- No block is filled at the start. -/
theorem fill_zero {acc : Memref sig c.2.kind .vmem A .f32} {X : FVec F A .f32} (z : F .f32) :
    (owns c acc fullShare X : sProp (MT nD τ sig Ix (Elt F) Name U Lvl)) ⊢ fill c acc z 0 := by
  unfold fill
  iintro HA
  iexists X; isplitr
  · ipureintro; intro p hp; omega
  iexact HA

/-- After all blocks the table is filled. -/
theorem fill_all {acc : Memref sig c.2.kind .vmem A .f32} {z : F .f32} :
    fill c acc z 64 ⊢ (owns c acc fullShare (fun _ => z : FVec F A .f32) : sProp (MT nD τ sig Ix (Elt F) Name U Lvl)) := by
  unfold fill
  iintro ⟨%X, %hX, HA⟩
  have : X = fun _ => z := by
    funext p
    have h0 : (p 0).val < 16 := (p 0).isLt
    have h1 : (p 1).val < 64 := (p 1).isLt
    exact hX p (by omega)
  subst this
  iexact HA

/-- A load of a whole table of sixteen. -/
theorem table_load {m : Memref sig c.2.kind .vmem V16 .i32} {V : IVec V16 32} {i0 : ∀ a, ![0] a + V16.size a ≤ V16.size a}
    {hl : m.view.LoadsAt (Rect.unit (s := V16) ![0] V16.size i0).toLoadRect} {q : PosShare TreeShare}
    {k : (V16.Idx → Elt F .i32) → Prog (TpuEff nD τ sig (Elt F) Λ c.2) β}
    (h : (owns c m q V ∗ R : sProp (MT nD τ sig Ix (Elt F) Name U Lvl)) ⊢ wp frame (wpE defs 𝒱 c bd) E (k V) Q) :
    (owns c m q V ∗ R : sProp (MT nD τ sig Ix (Elt F) Name U Lvl)) ⊢ wp frame (wpE defs 𝒱 c bd) E
      (Prog.lift (.load m (Rect.unit (s := V16) ![0] V16.size i0).toLoadRect hl) >>= k) Q := by
  iintro ⟨HA, HR⟩
  iapply (own_load 𝒱 c bd E) $$ HA
  iintro HA
  have e : (fun j => V ((Rect.unit (s := V16) ![0] V16.size i0).emb j)) = V := by
    funext j
    show V _ = V j
    congr 1
    funext a
    match a with
    | ⟨0, _⟩ => exact Fin.ext (by rw [Rect.emb_apply]; show 0 + 1 * (j 0).val = (j 0).val; omega)
  have h' : ∀ g, g = V → ((owns c m q V ∗ R : sProp (MT nD τ sig Ix (Elt F) Name U Lvl)) ⊢ wp frame (wpE defs 𝒱 c bd) E (k g) Q) := by
    rintro _ rfl; exact h
  iapply (h' _ e)
  isplitl [HA]; · iexact HA
  iexact HR

/-- A load of a table that is held second, -/
theorem table_load_second {T : sProp (MT nD τ sig Ix (Elt F) Name U Lvl)} {m : Memref sig c.2.kind .vmem V16 .i32} {V : IVec V16 32}
    {i0 : ∀ a, ![0] a + V16.size a ≤ V16.size a} {hl : m.view.LoadsAt (Rect.unit (s := V16) ![0] V16.size i0).toLoadRect} {q : PosShare TreeShare}
    {k : (V16.Idx → Elt F .i32) → Prog (TpuEff nD τ sig (Elt F) Λ c.2) β}
    (h : (T ∗ owns c m q V ∗ R : sProp (MT nD τ sig Ix (Elt F) Name U Lvl)) ⊢ wp frame (wpE defs 𝒱 c bd) E (k V) Q) :
    (T ∗ owns c m q V ∗ R : sProp (MT nD τ sig Ix (Elt F) Name U Lvl)) ⊢ wp frame (wpE defs 𝒱 c bd) E
      (Prog.lift (.load m (Rect.unit (s := V16) ![0] V16.size i0).toLoadRect hl) >>= k) Q := by
  iintro ⟨HT, HA, HR⟩
  iapply (table_load 𝒱 c bd E (R := iprop(T ∗ R)) (BIBase.Entails.trans (by iintro ⟨H1, H2, H3⟩; iframe) h))
  iframe

/-- or third. -/
theorem table_load_third {T T' : sProp (MT nD τ sig Ix (Elt F) Name U Lvl)} {m : Memref sig c.2.kind .vmem V16 .i32} {V : IVec V16 32}
    {i0 : ∀ a, ![0] a + V16.size a ≤ V16.size a} {hl : m.view.LoadsAt (Rect.unit (s := V16) ![0] V16.size i0).toLoadRect} {q : PosShare TreeShare}
    {k : (V16.Idx → Elt F .i32) → Prog (TpuEff nD τ sig (Elt F) Λ c.2) β}
    (h : (T ∗ T' ∗ owns c m q V ∗ R : sProp (MT nD τ sig Ix (Elt F) Name U Lvl)) ⊢ wp frame (wpE defs 𝒱 c bd) E (k V) Q) :
    (T ∗ T' ∗ owns c m q V ∗ R : sProp (MT nD τ sig Ix (Elt F) Name U Lvl)) ⊢ wp frame (wpE defs 𝒱 c bd) E
      (Prog.lift (.load m (Rect.unit (s := V16) ![0] V16.size i0).toLoadRect hl) >>= k) Q := by
  iintro ⟨HT, HT', HA, HR⟩
  iapply (table_load 𝒱 c bd E (R := iprop(T ∗ T' ∗ R)) (BIBase.Entails.trans (by iintro ⟨H1, H2, H3, H4⟩; iframe) h))
  iframe

end Step

section Copies

variable {β : Type} {defs : Defs nD τ sig (Elt F) Λ} (𝒱 : Variants) (c : Thread nD τ) (bd : Option 𝒱.V)
  {Q : β → sProp (MT nD τ sig Ix (Elt F) Name U Lvl)} [CountersIn U] [Infinite Name]
  (ι : Ix) (O : CellTallies nD τ sig Ix) (W : Waits sig Ix)

/-- What the thread owes after some waits at index `ι`, having begun with the waits `W`. -/
def owing (c : Thread nD τ) : sProp (MT nD τ sig Ix (Elt F) Name U Lvl) :=
  iprop(∃ W' : Waits sig Ix, ⌜∀ p ∈ W', p ∈ W ∨ p.2 = ι⌝ ∗ owes c O W')

/-- A copy in flight on the cell `sm`, delivering `D`. -/
abbrev fly (c : Thread nD τ) (sm : DmaSem sig) (N : ℕ) (D : sProp (MT nD τ sig Ix (Elt F) Name U Lvl)) : sProp (MT nD τ sig Ix (Elt F) Name U Lvl) :=
  Transfers.Flight countersEmb c (.dma sm) ι N D

variable {sp sp' : Space} {s : Shape} {e : EltTy} {src : Memref sig c.2.kind sp s e} {dst : Memref sig c.2.kind sp' s e} {sm : DmaSem sig}
  {hsrc : src.view.WordExact} {hdst : dst.view.WordExact} {hsem : DmaTarget.Typed (nD := nD) sp (.dma sm) (.here dst)}
  {q : PosShare TreeShare} {X Y : s.Idx → Elt F e}

/-- A copy is started: its arrays are handed to it. -/
theorem start_wp (hp : 0 < s.numel) {k : PUnit → Prog (TpuEff nD τ sig (Elt F) Λ c.2) β} :
    (owns c src q X ∗ owns c dst fullShare Y ∗ semVal (c, .dma sm) 0 : sProp (MT nD τ sig Ix (Elt F) Name U Lvl)) ⊢
      iprop((fly ι c sm (dst.view.amount (.dma sm)) iprop(owns c dst fullShare X ∗ owns c src q X) -∗ wp frame (wpE defs 𝒱 c bd) Set.univ (k ⟨⟩) Q)
        -∗ wp frame (wpE defs 𝒱 c bd) Set.univ (Prog.lift (TpuEff.enqueueDma src (.here dst) (.dma sm) hsrc hdst hsem) >>= k) Q) := by
  unfold owns
  iintro ⟨⟨%fs, %hfs, Hs⟩, ⟨%fd, %hfd, Hd⟩, Hv⟩ HK
  rw [Prog.bind_lift]
  iapply (Transfers.wp_dmaLocal countersEmb 𝒱 c bd ι (dst.view.amount (.dma sm)) rfl (View.amount_pos _ _ hp) (Sd := dst.view.set) subset_rfl) $$ [Hs Hd Hv]
  · isplitl [Hs]; · iexact Hs
    isplitl [Hd]; · iexact Hd
    iexact Hv
  iintro HF
  iapply HK
  iapply (Transfers.Flight_mono countersEmb c ?_) $$ HF
  iintro ⟨Hd, Hs⟩
  isplitl [Hd]
  · iexists (dst.view.write (Elt F) fd (src.view.read (Elt F) fs) Finset.univ); isplitr; · ipureintro; exact (View.read_write_univ _ _).trans hfs
    iexact Hd
  · iexists fs; isplitr; · ipureintro; exact hfs
    iexact Hs

/-- A copy is waited for: its arrays come back, the destination filled. -/
theorem wait_wp {spw : Space} {s' : Shape} {e' : EltTy} {srcw : Memref sig c.2.kind spw s' e'} {hsrc : srcw.view.WordExact}
    {D : sProp (MT nD τ sig Ix (Elt F) Name U Lvl)} {k : PUnit → Prog (TpuEff nD τ sig (Elt F) Λ c.2) β} :
    (fly ι c sm (dst.view.amount (.dma sm)) D ∗ owing ι O W c ∗ Transfers.MayWaits c ι O : sProp (MT nD τ sig Ix (Elt F) Name U Lvl)) ⊢
      iprop((D ∗ semVal (c, .dma sm) 0 ∗ owing ι O W c -∗ wp frame (wpE defs 𝒱 c bd) Set.univ (k ⟨⟩) Q)
        -∗ wp frame (wpE defs 𝒱 c bd) Set.univ (Prog.lift (.waitDma2 sm srcw dst hsrc hdst) >>= k) Q) := by
  unfold owing
  iintro ⟨HF, ⟨%W', %hW, HO⟩, HM⟩ HK
  rw [Prog.bind_lift]
  iapply (Transfers.wp_waitLocalO countersEmb 𝒱 c bd ι (N := dst.view.amount (.dma sm)) rfl) $$ [HF HO HM]
  · isplitl [HF]; · iexact HF
    isplitl [HO]; · iexact HO
    iapply (Transfers.MayWaits.elim (SemLoc.dma sm)) $$ HM
  iintro ⟨HD, Hv, HO⟩
  iapply HK
  isplitl [HD]; · iexact HD
  isplitl [Hv]; · iexact Hv
  iexists (insert (SemLoc.dma sm, ι) W'); isplitr
  · ipureintro
    intro p hp
    rcases Finset.mem_insert.mp hp with hp | hp
    · exact .inr (by rw [hp])
    · exact hW p hp
  iexact HO

variable {T R S F2 J : sProp (MT nD τ sig Ix (Elt F) Name U Lvl)}

/-- A copy started and waited for at once. -/
theorem copy_step (hp : 0 < s.numel) {spw : Space} {s' : Shape} {e' : EltTy} {srcw : Memref sig c.2.kind spw s' e'} {hw : srcw.view.WordExact} {hd : dst.view.WordExact}
    {k : PUnit → Prog (TpuEff nD τ sig (Elt F) Λ c.2) β}
    (h : (owns c src q X ∗ owns c dst fullShare X ∗ semVal (c, .dma sm) 0 ∗ Transfers.MayWaits c ι O ∗ owing ι O W c ∗ R : sProp (MT nD τ sig Ix (Elt F) Name U Lvl))
      ⊢ wp frame (wpE defs 𝒱 c bd) Set.univ (k ⟨⟩) Q) :
    (owns c src q X ∗ owns c dst fullShare Y ∗ semVal (c, .dma sm) 0 ∗ Transfers.MayWaits c ι O ∗ owing ι O W c ∗ R : sProp (MT nD τ sig Ix (Elt F) Name U Lvl))
      ⊢ wp frame (wpE defs 𝒱 c bd) Set.univ (Prog.lift (TpuEff.enqueueDma src (.here dst) (.dma sm) hsrc hdst hsem) >>= fun _ =>
          Prog.lift (.waitDma2 sm srcw dst hw hd) >>= k) Q := by
  iintro ⟨Hs, Hd, Hv, #HM, HO, HR⟩
  iapply (start_wp 𝒱 c bd ι hp) $$ [Hs Hd Hv]
  · isplitl [Hs]; · iexact Hs
    isplitl [Hd]; · iexact Hd
    iexact Hv
  iintro HF
  iapply (wait_wp 𝒱 c bd ι O W) $$ [HF HO]
  · isplitl [HF]; · iexact HF
    isplitl [HO]; · iexact HO
    iexact HM
  iintro ⟨⟨Hd, Hs⟩, Hv, HO⟩
  iapply h
  isplitl [Hs]; · iexact Hs
  isplitl [Hd]; · iexact Hd
  isplitl [Hv]; · iexact Hv
  isplitr; · iexact HM
  isplitl [HO]; · iexact HO
  iexact HR

/-- A copy into the staging buffer just used, the other one's still in flight. -/
theorem switch_start (hp : 0 < s.numel) {k : PUnit → Prog (TpuEff nD τ sig (Elt F) Λ c.2) β}
    (h : (T ∗ F2 ∗ (fly ι c sm (dst.view.amount (.dma sm)) iprop(owns c dst fullShare X ∗ owns c src q X) ∗ Transfers.MayWaits c ι O ∗ owing ι O W c ∗ R) : sProp (MT nD τ sig Ix (Elt F) Name U Lvl))
      ⊢ wp frame (wpE defs 𝒱 c bd) Set.univ (k ⟨⟩) Q) :
    (T ∗ owns c dst fullShare Y ∗ (F2 ∗ owns c src q X ∗ semVal (c, .dma sm) 0 ∗ Transfers.MayWaits c ι O ∗ owing ι O W c ∗ R) : sProp (MT nD τ sig Ix (Elt F) Name U Lvl))
      ⊢ wp frame (wpE defs 𝒱 c bd) Set.univ (Prog.lift (TpuEff.enqueueDma src (.here dst) (.dma sm) hsrc hdst hsem) >>= k) Q := by
  iintro ⟨HT, Hd, HF2, Hs, Hv, HM, HO, HR⟩
  iapply (start_wp 𝒱 c bd ι hp) $$ [Hs Hd Hv]
  · isplitl [Hs]; · iexact Hs
    isplitl [Hd]; · iexact Hd
    iexact Hv
  iintro HF
  iapply h
  isplitl [HT]; · iexact HT
  isplitl [HF2]; · iexact HF2
  isplitl [HF]; · iexact HF
  isplitl [HM]; · iexact HM
  isplitl [HO]; · iexact HO
  iexact HR

/-- The wait for the copy into the staging buffer used next. -/
theorem switch_wait {spw : Space} {s' : Shape} {e' : EltTy} {srcw : Memref sig c.2.kind spw s' e'} {hw : srcw.view.WordExact}
    {k : PUnit → Prog (TpuEff nD τ sig (Elt F) Λ c.2) β}
    (h : (T ∗ owns c dst fullShare X ∗ (F2 ∗ S ∗ semVal (c, .dma sm) 0 ∗ Transfers.MayWaits c ι O ∗ owing ι O W c ∗ R) : sProp (MT nD τ sig Ix (Elt F) Name U Lvl))
      ⊢ wp frame (wpE defs 𝒱 c bd) Set.univ (k ⟨⟩) Q) :
    (T ∗ fly ι c sm (dst.view.amount (.dma sm)) iprop(owns c dst fullShare X ∗ J) ∗ (F2 ∗ Transfers.MayWaits c ι O ∗ owing ι O W c ∗ S ∗ R) : sProp (MT nD τ sig Ix (Elt F) Name U Lvl))
      ⊢ wp frame (wpE defs 𝒱 c bd) Set.univ (Prog.lift (.waitDma2 sm srcw dst hw hdst) >>= k) Q := by
  iintro ⟨HT, HF, HF2, #HM, HO, HS, HR⟩
  iapply (wait_wp 𝒱 c bd ι O W) $$ [HF HO]
  · isplitl [HF]; · iexact HF
    isplitl [HO]; · iexact HO
    iexact HM
  iintro ⟨⟨Hd, -⟩, Hv, HO⟩
  iapply h
  isplitl [HT]; · iexact HT
  isplitl [Hd]; · iexact Hd
  isplitl [HF2]; · iexact HF2
  isplitl [HS]; · iexact HS
  isplitl [Hv]; · iexact Hv
  isplitr; · iexact HM
  isplitl [HO]; · iexact HO
  iexact HR

end Copies

end Cert.Proof.Block
end
-- ==== Proof.Whole.lean ====
/-
  A load of a whole buffer, and a store over a whole buffer, each stated over whatever program goes on after it.
-/
module

public import proofs.«01_k».proof.Proof.Steps

@[expose] public section

noncomputable section

namespace Cert.Proof.Block

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ : Labels} {α : Type} {defs : Defs nD τ sig Val Λ} (𝒱 : Variants) (c : Thread nD τ) (bd : Option 𝒱.V) (E : Set Name)
  {Q : α → sProp (MT nD τ sig Ix Val Name U Lvl)} {s : Shape} {e : EltTy}

/-- The window as large as its array starts at its first entry. -/
theorem emb_full {off : Fin s.rank → Nat} (i0 : ∀ a, off a + s.size a ≤ s.size a) (j : s.Idx) :
    (Rect.unit (s := s) off s.size i0).emb j = j := by
  funext a
  refine Fin.ext ?_
  rw [Rect.emb_apply]
  show off a + 1 * (j a).val = (j a).val
  have := i0 a; omega

/-- A load of a whole buffer reads what the buffer holds. -/
theorem whole_load {cs : CoreSpace} {m : Memref sig c.2.kind cs s e} {off : Fin s.rank → Nat} {i0 : ∀ a, off a + s.size a ≤ s.size a}
    {hl : m.view.LoadsAt (Rect.unit (s := s) off s.size i0).toLoadRect}
    {k : (s.Idx → Val e) → Prog (TpuEff nD τ sig Val Λ c.2) α} {X : s.Idx → Val e} {q : PosShare TreeShare} :
    (owns c m q X : sProp (MT nD τ sig Ix Val Name U Lvl)) ⊢ iprop((owns c m q X -∗ wp frame (wpE defs 𝒱 c bd) E (k X) Q)
      -∗ wp frame (wpE defs 𝒱 c bd) E (Prog.lift (.load m (Rect.unit (s := s) off s.size i0).toLoadRect hl) >>= k) Q) := by
  have e : (fun j => X ((Rect.unit (s := s) off s.size i0).emb j)) = X := funext fun j => by rw [emb_full i0 j]
  have h' : ∀ g, g = X → (iprop(owns c m q X -∗ wp frame (wpE defs 𝒱 c bd) E (k X) Q) : sProp (MT nD τ sig Ix Val Name U Lvl))
      ⊢ iprop(owns c m q X -∗ wp frame (wpE defs 𝒱 c bd) E (k g) Q) := by
    rintro _ rfl; exact .rfl
  iintro HA HK
  iapply (own_load 𝒱 c bd E) $$ HA
  iapply (h' _ e)
  iexact HK

/-- A store over a whole buffer leaves what was stored. -/
theorem whole_store {cs : CoreSpace} {m : Memref sig c.2.kind cs s e} {off : Fin s.rank → Nat} {i0 : ∀ a, off a + s.size a ≤ s.size a}
    {w : s.Idx → Val e} {hx : (m.access (Rect.unit (s := s) off s.size i0)).Stores Finset.univ}
    {hm : (Finset.univ : Finset (Rect.unit (s := s) off s.size i0).shape.Idx) = Finset.univ ∨ ∀ a, (Rect.unit (s := s) off s.size i0).stride a = 1}
    {k : PUnit → Prog (TpuEff nD τ sig Val Λ c.2) α} {X : s.Idx → Val e} :
    (owns c m fullShare X : sProp (MT nD τ sig Ix Val Name U Lvl)) ⊢ iprop((owns c m fullShare w -∗ wp frame (wpE defs 𝒱 c bd) E (k ⟨⟩) Q)
      -∗ wp frame (wpE defs 𝒱 c bd) E (Prog.lift (.store m (Rect.unit (s := s) off s.size i0) w Finset.univ hx hm) >>= k) Q) := by
  iintro HA HK
  iapply (own_store 𝒱 c bd E (X := X) (Y := w) (r := Rect.unit (s := s) off s.size i0)
    (fun x => by rw [emb_full i0 x]) (fun y hy => absurd (Rect.mem_set_unit.2 fun a => ⟨by have := i0 a; omega, by have := i0 a; have := (y a).isLt; omega⟩) hy)) $$ HA
  iexact HK

end Cert.Proof.Block
-- ==== Proof.Shares.lean ====
/-
  Small tools of the launch: an array read by every tile is dealt out in shares, and five things are taken out of many.
-/
module

public import Idealize.ShloMosaic.Lib.SparseCore.Quiescent
public import Idealize.ShloMosaic.Lib.Transfers

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

/-- The share of an array held at `q` that tile `i` of SparseCore `c` reads through. -/
def tileShare (q : PosShare TreeShare) (c : Fin 2) (i : Fin 16) : PosShare TreeShare := Transfers.shareTok (Transfers.shareTok q 2 c) 16 i

section

variable {nD : ℕ} {τ : Topo} {sig : RefSig} {Ix : Type} [DecidableEq Ix] {Val : EltTy → Type} {Name : Type} [DecidableEq Name]
  {U : Type} [URA U] {Lvl : Type} [Preorder Lvl]

/-- A whole share is dealt to the tiles; what is over is let go. -/
theorem deal {ℓ : Loc nD τ sig} (q : PosShare TreeShare) (f : Buf Val ℓ) :
    (ℓ ↦{q} f : sProp (MT nD τ sig Ix Val Name U Lvl))
      ⊢ bigSep Finset.univ fun c : Fin 2 => bigSep Finset.univ fun i : Fin 16 => ℓ ↦{tileShare q c i} f :=
  (Transfers.pointsTo_toks_split q 2).trans (sep_elim_right.trans
    (bigSep_mono fun c _ => (Transfers.pointsTo_toks_split _ 16).trans sep_elim_right))

/-- A share is four shares, and something over. -/
theorem four {ℓ : Loc nD τ sig} (q : PosShare TreeShare) (f : Buf Val ℓ) :
    (ℓ ↦{q} f : sProp (MT nD τ sig Ix Val Name U Lvl))
      ⊢ iprop((ℓ ↦{Transfers.shareTok q 4 0} f) ∗ (ℓ ↦{Transfers.shareTok q 4 1} f) ∗ (ℓ ↦{Transfers.shareTok q 4 2} f) ∗ (ℓ ↦{Transfers.shareTok q 4 3} f)) := by
  refine (Transfers.pointsTo_toks_split q 4).trans (sep_elim_right.trans ?_)
  rw [show (Finset.univ : Finset (Fin 4)) = {0, 1, 2, 3} by decide, SparseCore.bigSep_insert' (by decide),
    SparseCore.bigSep_insert' (by decide), SparseCore.bigSep_insert' (by decide), bigSep_singleton]

/-- Of a whole array one may keep what one view of it sees. -/
theorem slice_of_whole (c : Thread nD τ) {sp : Space} {sh : Shape} {e : EltTy} (m : Memref sig c.2.kind sp sh e) (q : PosShare TreeShare)
    (f : m.view.ty.Contents Val) :
    (m.view.loc c ↦{q} f : sProp (MT nD τ sig Ix Val Name U Lvl)) ⊢ owns c m q (m.view.read Val f) :=
  ((pointsTo_split_subset (Finset.subset_univ _)).1.trans sep_elim_left).trans (owns_intro c m q f)

end

section

variable {M : Type} [URA M] {I : Type} [DecidableEq I]

/-- Five of a family are themselves and the rest. -/
theorem take5 {S : Finset I} {Φ : I → sProp M} (l : List I) (a b c d e : I) (hl : l = [a, b, c, d, e]) (hn : l.Nodup) (h : ∀ x ∈ l, x ∈ S) :
    bigSep S Φ = iprop(Φ a ∗ Φ b ∗ Φ c ∗ Φ d ∗ Φ e ∗ bigSep (((((S.erase a).erase b).erase c).erase d).erase e) Φ) := by
  subst hl
  simp only [List.nodup_cons, List.mem_cons, List.not_mem_nil, or_false, not_or, forall_eq_or_imp, forall_eq] at hn h
  obtain ⟨⟨hab, hac, had, hae⟩, ⟨hbc, hbd, hbe⟩, ⟨hcd, hce⟩, hde, -⟩ := hn
  obtain ⟨ha, hb, hc, hd, he⟩ := h
  rw [SparseCore.bigSep_erase' ha,
    SparseCore.bigSep_erase' (i := b) (Finset.mem_erase.mpr ⟨Ne.symm hab, hb⟩),
    SparseCore.bigSep_erase' (i := c) (Finset.mem_erase.mpr ⟨Ne.symm hbc, Finset.mem_erase.mpr ⟨Ne.symm hac, hc⟩⟩),
    SparseCore.bigSep_erase' (i := d) (Finset.mem_erase.mpr ⟨Ne.symm hcd, Finset.mem_erase.mpr ⟨Ne.symm hbd, Finset.mem_erase.mpr ⟨Ne.symm had, hd⟩⟩⟩),
    SparseCore.bigSep_erase' (i := e) (Finset.mem_erase.mpr ⟨Ne.symm hde, Finset.mem_erase.mpr ⟨Ne.symm hce, Finset.mem_erase.mpr ⟨Ne.symm hbe,
      Finset.mem_erase.mpr ⟨Ne.symm hae, he⟩⟩⟩⟩)]

end

end Cert.Proof

end
-- ==== Proof.TileIdealB.lean ====
/-
  What one tile of SparseCore call 3 does: from its four chunks of the features and the two tables of segment bounds it
  leaves `tileVal` in its row of the result.
-/
module

public import proofs.«01_k».proof.Proof.Steps
public import proofs.«01_k».proof.KernelIdeal.P06
public import proofs.«01_k».proof.KernelIdeal

@[expose] public section

noncomputable section

namespace Cert.KernelIdeal

open Idealize.ShloMosaic
open Idealize.SL Idealize.SL.RA Idealize.SL.BI
open scoped Idealize.SL.BI
open Idealize.SL.BI.BIBase Idealize.SL.BI.Laws Idealize.SL.ProofMode Idealize.SL.Sem
open Cert.Proof.Block

variable [Facts] {F : FTy → Type} [FloatOps F]

open Facts₀ Facts

variable {Ix : Type} [DecidableEq Ix] {Name : Type} [DecidableEq Name] {U : Type} [URA U] {Lvl : Type} [Preorder Lvl]

/-- The first row of the features that a tile of call 3 takes, among all rows. -/
def base3 (i : grid3.Coords) : BitVec 32 :=
  Scalar.addi 32768#32 (Scalar.muli (Scalar.addi (Scalar.muli (BitVec.ofNat 32 (i 1).val) 2#32) (BitVec.ofNat 32 (i 0).val)) 1024#32)

/-- The thread that runs a tile of call 3. -/
abbrev thr3 (d : Fin nD) (i : grid3.Coords) : Thread nD τ := (d, .scVector ((i 0).castLE hcore3) ((i 1).castLE hsub3))

/-- The row of the result that a tile of call 3 writes. -/
abbrev row3 (i : grid3.Coords) (arg5 : Memref sig .scVector .hbm S32x16x64 .f32) : Memref sig .scVector .hbm S16x64 .f32 :=
  (arg5.slice (Rect.unit (s := S32x16x64) (k3_off1027 i) S1x16x64.size (k3_off1027_inb i)) (fun _ => rfl)).squeeze S16x64 squeezes_S1x16x64_S16x64

attribute [local irreducible] Scalar.minsi Scalar.maxsi Scalar.subi Scalar.addi Scalar.muli Scalar.cmpi Scalar.extui Scalar.divsi

set_option maxHeartbeats 0 in
/-- One tile's run, from owning its operands and its buffers to owning them with its row computed. -/
theorem tile3 [CountersIn U] [Infinite Name] (d : Fin nD) (𝒱 : Variants) (bd : Option 𝒱.V) (defs : Defs nD τ sig (Elt F) Λ₀)
    (ι : Ix) (O : CellTallies nD τ sig Ix) (W : Waits sig Ix)
    (i : grid3.Coords) (arg2 : Memref sig .scVector .hbm S32768x128 .f32) (harg2 : arg2.IsWhole)
    (arg3 : Memref sig .scVector .hbm S16 .i32) (harg3 : arg3.IsWhole) (arg4 : Memref sig .scVector .hbm S16 .i32) (harg4 : arg4.IsWhole)
    (arg5 : Memref sig .scVector .hbm S32x16x64 .f32) (harg5 : arg5.IsWhole) (arg6 : Memref sig .scVector .vmem S256x128 .f32) (harg6 : arg6.IsWhole)
    (arg7 : Memref sig .scVector .vmem S256x128 .f32) (harg7 : arg7.IsWhole) (arg8 : Memref sig .scVector .vmem S16x64 .f32) (harg8 : arg8.IsWhole)
    (arg9 : Memref sig .scVector .vmem S16 .i32) (harg9 : arg9.IsWhole) (arg10 : Memref sig .scVector .vmem S16 .i32) (harg10 : arg10.IsWhole)
    (arg11 : DmaSems sig S_) (arg12 : DmaSems sig S_) (r0 : DmaSems sig S_) (r1 : DmaSems sig S_) (r2 : DmaSems sig S_)
    {q3 q4 p0 p1 p2 p3 : PosShare TreeShare} {V V9 T T9 : IVec S16 32} {H0 H1 H2 H3 Y6 Y7 : FVec F S256x128 .f32} {X Z : FVec F S16x64 .f32}
    {Q : PUnit → sProp (MT nD τ sig Ix (Elt F) Name U Lvl)}
    (hQ : iprop(owns (thr3 d i) arg8 fullShare (tileVal (base3 i) V T H0 H1 H2 H3) ∗ owns (thr3 d i) (row3 i arg5) fullShare (tileVal (base3 i) V T H0 H1 H2 H3)
        ∗ semVal (thr3 d i, .dma r2.sem) 0 ∗ Transfers.MayWaits (thr3 d i) ι O ∗ owing ι O W (thr3 d i)
        ∗ ((owns (thr3 d i) arg3 q3 V ∗ owns (thr3 d i) arg4 q4 T ∗ semVal (thr3 d i, .dma r0.sem) 0 ∗ semVal (thr3 d i, .dma r1.sem) 0)
            ∗ owns (thr3 d i) arg9 fullShare V ∗ owns (thr3 d i) arg10 fullShare T) ∗ semVal (thr3 d i, .dma arg11.sem) 0
        ∗ owns (thr3 d i) arg6 fullShare H2 ∗ owns (thr3 d i) arg7 fullShare H3 ∗ semVal (thr3 d i, .dma arg12.sem) 0) ⊢ Q ⟨⟩) :
    iprop(owns (thr3 d i) arg3 q3 V ∗ owns (thr3 d i) arg9 fullShare V9 ∗ semVal (thr3 d i, .dma r0.sem) 0 ∗ Transfers.MayWaits (thr3 d i) ι O ∗ owing ι O W (thr3 d i)
      ∗ (owns (thr3 d i) arg4 q4 T ∗ owns (thr3 d i) arg10 fullShare T9 ∗ semVal (thr3 d i, .dma r1.sem) 0
      ∗ (owns (thr3 d i) arg8 fullShare X ∗ owns (thr3 d i) arg6 fullShare Y6 ∗ owns (thr3 d i) arg7 fullShare Y7
      ∗ owns (thr3 d i) (arg2.slice (Rect.unit (s := S32768x128) (k3_off1 i 0#32) S256x128.size (k3_off1_inb i 0)) (fun _ => rfl)) p0 H0
      ∗ semVal (thr3 d i, .dma arg11.sem) 0
      ∗ (owns (thr3 d i) (arg2.slice (Rect.unit (s := S32768x128) (k3_off1 i 256#32) S256x128.size (k3_off1_inb i 1)) (fun _ => rfl)) p1 H1
      ∗ semVal (thr3 d i, .dma arg12.sem) 0
      ∗ owns (thr3 d i) (arg2.slice (Rect.unit (s := S32768x128) (k3_off258 i 512#32) S256x128.size (k3_off258_inb i 1)) (fun _ => rfl)) p2 H2
      ∗ owns (thr3 d i) (arg2.slice (Rect.unit (s := S32768x128) (k3_off258 i 768#32) S256x128.size (k3_off258_inb i 2)) (fun _ => rfl)) p3 H3
      ∗ owns (thr3 d i) (row3 i arg5) fullShare Z ∗ semVal (thr3 d i, .dma r2.sem) 0)))) ⊢
    wp frame (wpE defs 𝒱 (thr3 d i) bd) Set.univ
      (cc3__segmax_body i arg2 harg2 arg3 harg3 arg4 harg4 arg5 harg5 arg6 harg6 arg7 harg7 arg8 harg8 arg9 harg9 arg10 harg10 arg11 arg12 r0 r1 r2) Q := by
  unfold cc3__segmax_body
  refine bind_step 𝒱 _ bd _ ?_
  unfold k3_part55
  refine bind_step 𝒱 _ bd _ ?_
  unfold k3_part1
  refine copy_step 𝒱 _ bd ι O W (by decide) ?_
  refine perm_tables ?_
  refine copy_step 𝒱 _ bd ι O W (by decide) ?_
  refine perm_fill (fill_zero _ (Scalar.ofBits .f32 0xFF800000#32)) ?_
  iterate 6 (refine fill_load 𝒱 _ bd _ fun _ => ?_; refine fill_store 𝒱 _ bd _ (by decide) rfl ?_)
  refine pure_step 𝒱 _ bd _ ?_
  refine bind_step 𝒱 _ bd _ ?_
  unfold k3_part2
  iterate 9 (refine fill_load 𝒱 _ bd _ fun _ => ?_; refine fill_store 𝒱 _ bd _ (by decide) rfl ?_)
  refine pure_step 𝒱 _ bd _ ?_
  refine bind_step 𝒱 _ bd _ ?_
  unfold k3_part3
  iterate 8 (refine fill_load 𝒱 _ bd _ fun _ => ?_; refine fill_store 𝒱 _ bd _ (by decide) rfl ?_)
  refine fill_load 𝒱 _ bd _ fun _ => ?_
  refine pure_step 𝒱 _ bd _ ?_
  refine bind_step 𝒱 _ bd _ ?_
  unfold k3_part4
  iterate 8 (refine fill_store 𝒱 _ bd _ (by decide) rfl ?_; refine fill_load 𝒱 _ bd _ fun _ => ?_)
  refine fill_store 𝒱 _ bd _ (by decide) rfl ?_
  refine pure_step 𝒱 _ bd _ ?_
  refine bind_step 𝒱 _ bd _ ?_
  unfold k3_part5
  iterate 8 (refine fill_load 𝒱 _ bd _ fun _ => ?_; refine fill_store 𝒱 _ bd _ (by decide) rfl ?_)
  refine fill_load 𝒱 _ bd _ fun _ => ?_
  refine pure_step 𝒱 _ bd _ ?_
  refine bind_step 𝒱 _ bd _ ?_
  unfold k3_part6
  iterate 8 (refine fill_store 𝒱 _ bd _ (by decide) rfl ?_; refine fill_load 𝒱 _ bd _ fun _ => ?_)
  refine fill_store 𝒱 _ bd _ (by decide) rfl ?_
  refine pure_step 𝒱 _ bd _ ?_
  refine bind_step 𝒱 _ bd _ ?_
  unfold k3_part7
  iterate 8 (refine fill_load 𝒱 _ bd _ fun _ => ?_; refine fill_store 𝒱 _ bd _ (by decide) rfl ?_)
  refine fill_load 𝒱 _ bd _ fun _ => ?_
  refine pure_step 𝒱 _ bd _ ?_
  refine bind_step 𝒱 _ bd _ ?_
  unfold k3_part8
  iterate 6 (refine fill_store 𝒱 _ bd _ (by decide) rfl ?_; refine fill_load 𝒱 _ bd _ fun _ => ?_)
  refine fill_store 𝒱 _ bd _ (by decide) rfl ?_
  refine table_load_second 𝒱 _ bd _ ?_
  refine table_load_third 𝒱 _ bd _ ?_
  refine assume_step 𝒱 _ bd _ (side _ _ _ _ _ _ _ _ (by decide)) ?_
  refine pure_step 𝒱 _ bd _ ?_
  refine bind_step 𝒱 _ bd _ ?_
  unfold k3_part9
  iterate 3 refine assume_step 𝒱 _ bd _ (side _ _ _ _ _ _ _ _ (by decide)) ?_
  refine pure_step 𝒱 _ bd _ ?_
  refine bind_step 𝒱 _ bd _ ?_
  unfold k3_part10
  iterate 4 refine assume_step 𝒱 _ bd _ (side _ _ _ _ _ _ _ _ (by decide)) ?_
  refine pure_step 𝒱 _ bd _ ?_
  refine bind_step 𝒱 _ bd _ ?_
  unfold k3_part11
  iterate 3 refine assume_step 𝒱 _ bd _ (side _ _ _ _ _ _ _ _ (by decide)) ?_
  refine pure_step 𝒱 _ bd _ ?_
  refine bind_step 𝒱 _ bd _ ?_
  unfold k3_part12
  iterate 4 refine assume_step 𝒱 _ bd _ (side _ _ _ _ _ _ _ _ (by decide)) ?_
  refine pure_step 𝒱 _ bd _ ?_
  refine bind_step 𝒱 _ bd _ ?_
  unfold k3_part13
  iterate 3 refine assume_step 𝒱 _ bd _ (side _ _ _ _ _ _ _ _ (by decide)) ?_
  refine pure_step 𝒱 _ bd _ ?_
  refine bind_step 𝒱 _ bd _ ?_
  unfold k3_part14
  iterate 4 refine assume_step 𝒱 _ bd _ (side _ _ _ _ _ _ _ _ (by decide)) ?_
  refine pure_step 𝒱 _ bd _ ?_
  refine bind_step 𝒱 _ bd _ ?_
  unfold k3_part15
  iterate 3 refine assume_step 𝒱 _ bd _ (side _ _ _ _ _ _ _ _ (by decide)) ?_
  refine pure_step 𝒱 _ bd _ ?_
  refine bind_step 𝒱 _ bd _ ?_
  unfold k3_part16
  iterate 4 refine assume_step 𝒱 _ bd _ (side _ _ _ _ _ _ _ _ (by decide)) ?_
  refine pure_step 𝒱 _ bd _ ?_
  refine bind_step 𝒱 _ bd _ ?_
  unfold k3_part17
  iterate 3 refine assume_step 𝒱 _ bd _ (side _ _ _ _ _ _ _ _ (by decide)) ?_
  refine perm_first (fill_all _) ?_
  refine switch_start 𝒱 _ bd ι O W (by decide) ?_
  refine pure_step 𝒱 _ bd _ ?_
  refine bind_step 𝒱 _ bd _ ?_
  unfold k3_part18
  refine perm_second ?_
  refine switch_start 𝒱 _ bd ι O W (by decide) ?_
  refine switch_wait 𝒱 _ bd ι O W ?_
  iterate 2 refine blk_step 𝒱 _ bd _ (fun t => ⟨rfl, rfl, rfl, rfl⟩) (by decide) ?_
  refine pure_step 𝒱 _ bd _ ?_
  refine bind_step 𝒱 _ bd _ ?_
  unfold k3_part19
  iterate 4 refine blk_step 𝒱 _ bd _ (fun t => ⟨rfl, rfl, rfl, rfl⟩) (by decide) ?_
  refine pure_step 𝒱 _ bd _ ?_
  refine bind_step 𝒱 _ bd _ ?_
  unfold k3_part20
  iterate 3 refine blk_step 𝒱 _ bd _ (fun t => ⟨rfl, rfl, rfl, rfl⟩) (by decide) ?_
  refine pure_step 𝒱 _ bd _ ?_
  refine bind_step 𝒱 _ bd _ ?_
  unfold k3_part21
  iterate 4 refine blk_step 𝒱 _ bd _ (fun t => ⟨rfl, rfl, rfl, rfl⟩) (by decide) ?_
  refine pure_step 𝒱 _ bd _ ?_
  refine bind_step 𝒱 _ bd _ ?_
  unfold k3_part22
  iterate 3 refine blk_step 𝒱 _ bd _ (fun t => ⟨rfl, rfl, rfl, rfl⟩) (by decide) ?_
  refine pure_step 𝒱 _ bd _ ?_
  refine bind_step 𝒱 _ bd _ ?_
  unfold k3_part23
  iterate 4 refine blk_step 𝒱 _ bd _ (fun t => ⟨rfl, rfl, rfl, rfl⟩) (by decide) ?_
  refine pure_step 𝒱 _ bd _ ?_
  refine bind_step 𝒱 _ bd _ ?_
  unfold k3_part24
  iterate 3 refine blk_step 𝒱 _ bd _ (fun t => ⟨rfl, rfl, rfl, rfl⟩) (by decide) ?_
  refine pure_step 𝒱 _ bd _ ?_
  refine bind_step 𝒱 _ bd _ ?_
  unfold k3_part25
  iterate 4 refine blk_step 𝒱 _ bd _ (fun t => ⟨rfl, rfl, rfl, rfl⟩) (by decide) ?_
  refine pure_step 𝒱 _ bd _ ?_
  refine bind_step 𝒱 _ bd _ ?_
  unfold k3_part26
  iterate 3 refine blk_step 𝒱 _ bd _ (fun t => ⟨rfl, rfl, rfl, rfl⟩) (by decide) ?_
  refine pure_step 𝒱 _ bd _ ?_
  refine bind_step 𝒱 _ bd _ ?_
  unfold k3_part27
  iterate 2 refine blk_step 𝒱 _ bd _ (fun t => ⟨rfl, rfl, rfl, rfl⟩) (by decide) ?_
  refine switch_start 𝒱 _ bd ι O W (by decide) ?_
  refine switch_wait 𝒱 _ bd ι O W ?_
  refine blk_step 𝒱 _ bd _ (fun t => ⟨rfl, rfl, rfl, rfl⟩) (by decide) ?_
  refine pure_step 𝒱 _ bd _ ?_
  refine bind_step 𝒱 _ bd _ ?_
  unfold k3_part28
  iterate 4 refine blk_step 𝒱 _ bd _ (fun t => ⟨rfl, rfl, rfl, rfl⟩) (by decide) ?_
  refine pure_step 𝒱 _ bd _ ?_
  refine bind_step 𝒱 _ bd _ ?_
  unfold k3_part29
  iterate 3 refine blk_step 𝒱 _ bd _ (fun t => ⟨rfl, rfl, rfl, rfl⟩) (by decide) ?_
  refine pure_step 𝒱 _ bd _ ?_
  refine bind_step 𝒱 _ bd _ ?_
  unfold k3_part30
  iterate 4 refine blk_step 𝒱 _ bd _ (fun t => ⟨rfl, rfl, rfl, rfl⟩) (by decide) ?_
  refine pure_step 𝒱 _ bd _ ?_
  refine bind_step 𝒱 _ bd _ ?_
  unfold k3_part31
  iterate 3 refine blk_step 𝒱 _ bd _ (fun t => ⟨rfl, rfl, rfl, rfl⟩) (by decide) ?_
  refine pure_step 𝒱 _ bd _ ?_
  refine bind_step 𝒱 _ bd _ ?_
  unfold k3_part32
  iterate 4 refine blk_step 𝒱 _ bd _ (fun t => ⟨rfl, rfl, rfl, rfl⟩) (by decide) ?_
  refine pure_step 𝒱 _ bd _ ?_
  refine bind_step 𝒱 _ bd _ ?_
  unfold k3_part33
  iterate 3 refine blk_step 𝒱 _ bd _ (fun t => ⟨rfl, rfl, rfl, rfl⟩) (by decide) ?_
  refine pure_step 𝒱 _ bd _ ?_
  refine bind_step 𝒱 _ bd _ ?_
  unfold k3_part34
  iterate 4 refine blk_step 𝒱 _ bd _ (fun t => ⟨rfl, rfl, rfl, rfl⟩) (by decide) ?_
  refine pure_step 𝒱 _ bd _ ?_
  refine bind_step 𝒱 _ bd _ ?_
  unfold k3_part35
  iterate 3 refine blk_step 𝒱 _ bd _ (fun t => ⟨rfl, rfl, rfl, rfl⟩) (by decide) ?_
  refine pure_step 𝒱 _ bd _ ?_
  refine bind_step 𝒱 _ bd _ ?_
  unfold k3_part36
  iterate 3 refine blk_step 𝒱 _ bd _ (fun t => ⟨rfl, rfl, rfl, rfl⟩) (by decide) ?_
  refine switch_start 𝒱 _ bd ι O W (by decide) ?_
  refine switch_wait 𝒱 _ bd ι O W ?_
  refine pure_step 𝒱 _ bd _ ?_
  refine bind_step 𝒱 _ bd _ ?_
  unfold k3_part37
  iterate 4 refine blk_step 𝒱 _ bd _ (fun t => ⟨rfl, rfl, rfl, rfl⟩) (by decide) ?_
  refine pure_step 𝒱 _ bd _ ?_
  refine bind_step 𝒱 _ bd _ ?_
  unfold k3_part38
  iterate 3 refine blk_step 𝒱 _ bd _ (fun t => ⟨rfl, rfl, rfl, rfl⟩) (by decide) ?_
  refine pure_step 𝒱 _ bd _ ?_
  refine bind_step 𝒱 _ bd _ ?_
  unfold k3_part39
  iterate 4 refine blk_step 𝒱 _ bd _ (fun t => ⟨rfl, rfl, rfl, rfl⟩) (by decide) ?_
  refine pure_step 𝒱 _ bd _ ?_
  refine bind_step 𝒱 _ bd _ ?_
  unfold k3_part40
  iterate 3 refine blk_step 𝒱 _ bd _ (fun t => ⟨rfl, rfl, rfl, rfl⟩) (by decide) ?_
  refine pure_step 𝒱 _ bd _ ?_
  refine bind_step 𝒱 _ bd _ ?_
  unfold k3_part41
  iterate 4 refine blk_step 𝒱 _ bd _ (fun t => ⟨rfl, rfl, rfl, rfl⟩) (by decide) ?_
  refine pure_step 𝒱 _ bd _ ?_
  refine bind_step 𝒱 _ bd _ ?_
  unfold k3_part42
  iterate 3 refine blk_step 𝒱 _ bd _ (fun t => ⟨rfl, rfl, rfl, rfl⟩) (by decide) ?_
  refine pure_step 𝒱 _ bd _ ?_
  refine bind_step 𝒱 _ bd _ ?_
  unfold k3_part43
  iterate 4 refine blk_step 𝒱 _ bd _ (fun t => ⟨rfl, rfl, rfl, rfl⟩) (by decide) ?_
  refine pure_step 𝒱 _ bd _ ?_
  refine bind_step 𝒱 _ bd _ ?_
  unfold k3_part44
  iterate 3 refine blk_step 𝒱 _ bd _ (fun t => ⟨rfl, rfl, rfl, rfl⟩) (by decide) ?_
  refine pure_step 𝒱 _ bd _ ?_
  refine bind_step 𝒱 _ bd _ ?_
  unfold k3_part45
  iterate 4 refine blk_step 𝒱 _ bd _ (fun t => ⟨rfl, rfl, rfl, rfl⟩) (by decide) ?_
  refine pure_step 𝒱 _ bd _ ?_
  refine bind_step 𝒱 _ bd _ ?_
  unfold k3_part46
  refine perm_last ?_
  refine switch_wait 𝒱 _ bd ι O W ?_
  iterate 3 refine blk_step 𝒱 _ bd _ (fun t => ⟨rfl, rfl, rfl, rfl⟩) (by decide) ?_
  refine pure_step 𝒱 _ bd _ ?_
  refine bind_step 𝒱 _ bd _ ?_
  unfold k3_part47
  iterate 4 refine blk_step 𝒱 _ bd _ (fun t => ⟨rfl, rfl, rfl, rfl⟩) (by decide) ?_
  refine pure_step 𝒱 _ bd _ ?_
  refine bind_step 𝒱 _ bd _ ?_
  unfold k3_part48
  iterate 3 refine blk_step 𝒱 _ bd _ (fun t => ⟨rfl, rfl, rfl, rfl⟩) (by decide) ?_
  refine pure_step 𝒱 _ bd _ ?_
  refine bind_step 𝒱 _ bd _ ?_
  unfold k3_part49
  iterate 4 refine blk_step 𝒱 _ bd _ (fun t => ⟨rfl, rfl, rfl, rfl⟩) (by decide) ?_
  refine pure_step 𝒱 _ bd _ ?_
  refine bind_step 𝒱 _ bd _ ?_
  unfold k3_part50
  iterate 3 refine blk_step 𝒱 _ bd _ (fun t => ⟨rfl, rfl, rfl, rfl⟩) (by decide) ?_
  refine pure_step 𝒱 _ bd _ ?_
  refine bind_step 𝒱 _ bd _ ?_
  unfold k3_part51
  iterate 4 refine blk_step 𝒱 _ bd _ (fun t => ⟨rfl, rfl, rfl, rfl⟩) (by decide) ?_
  refine pure_step 𝒱 _ bd _ ?_
  refine bind_step 𝒱 _ bd _ ?_
  unfold k3_part52
  iterate 3 refine blk_step 𝒱 _ bd _ (fun t => ⟨rfl, rfl, rfl, rfl⟩) (by decide) ?_
  refine pure_step 𝒱 _ bd _ ?_
  refine bind_step 𝒱 _ bd _ ?_
  unfold k3_part53
  iterate 4 refine blk_step 𝒱 _ bd _ (fun t => ⟨rfl, rfl, rfl, rfl⟩) (by decide) ?_
  refine pure_step 𝒱 _ bd _ ?_
  refine bind_step 𝒱 _ bd _ ?_
  unfold k3_part54
  iterate 3 refine blk_step 𝒱 _ bd _ (fun t => ⟨rfl, rfl, rfl, rfl⟩) (by decide) ?_
  refine pure_step 𝒱 _ bd _ ?_
  refine blk_step 𝒱 _ bd _ (fun t => ⟨rfl, rfl, rfl, rfl⟩) (by decide) ?_
  refine pure_step 𝒱 _ bd _ ?_
  refine perm_out ?_
  refine copy_step 𝒱 _ bd ι O W (by decide) ?_
  refine pure_step 𝒱 _ bd _ ?_
  exact hQ

end Cert.KernelIdeal

end
-- ==== Proof.TileIdealA.lean ====
/-
  What one tile of SparseCore call 1 does: from its four chunks of the features and the two tables of segment bounds it
  leaves `tileVal` in its row of the result.
-/
module

public import proofs.«01_k».proof.Proof.Steps
public import proofs.«01_k».proof.KernelIdeal.P05

@[expose] public section

noncomputable section

namespace Cert.KernelIdeal

open Idealize.ShloMosaic
open Idealize.SL Idealize.SL.RA Idealize.SL.BI
open scoped Idealize.SL.BI
open Idealize.SL.BI.BIBase Idealize.SL.BI.Laws Idealize.SL.ProofMode Idealize.SL.Sem
open Cert.Proof.Block

variable [Facts] {F : FTy → Type} [FloatOps F]

open Facts₀ Facts

variable {Ix : Type} [DecidableEq Ix] {Name : Type} [DecidableEq Name] {U : Type} [URA U] {Lvl : Type} [Preorder Lvl]

/-- The first row of the features that a tile of call 1 takes, among all rows. -/
def base1 (i : grid1.Coords) : BitVec 32 :=
  Scalar.addi 0#32 (Scalar.muli (Scalar.addi (Scalar.muli (BitVec.ofNat 32 (i 1).val) 2#32) (BitVec.ofNat 32 (i 0).val)) 1024#32)

/-- The thread that runs a tile of call 1. -/
abbrev thr1 (d : Fin nD) (i : grid1.Coords) : Thread nD τ := (d, .scVector ((i 0).castLE hcore1) ((i 1).castLE hsub1))

/-- The row of the result that a tile of call 1 writes. -/
abbrev row1 (i : grid1.Coords) (arg5 : Memref sig .scVector .hbm S32x16x64 .f32) : Memref sig .scVector .hbm S16x64 .f32 :=
  (arg5.slice (Rect.unit (s := S32x16x64) (k1_off1027 i) S1x16x64.size (k1_off1027_inb i)) (fun _ => rfl)).squeeze S16x64 squeezes_S1x16x64_S16x64

attribute [local irreducible] Scalar.minsi Scalar.maxsi Scalar.subi Scalar.addi Scalar.muli Scalar.cmpi Scalar.extui Scalar.divsi

set_option maxHeartbeats 0 in
/-- One tile's run, from owning its operands and its buffers to owning them with its row computed. -/
theorem tile1 [CountersIn U] [Infinite Name] (d : Fin nD) (𝒱 : Variants) (bd : Option 𝒱.V) (defs : Defs nD τ sig (Elt F) Λ₀)
    (ι : Ix) (O : CellTallies nD τ sig Ix) (W : Waits sig Ix)
    (i : grid1.Coords) (arg2 : Memref sig .scVector .hbm S32768x128 .f32) (harg2 : arg2.IsWhole)
    (arg3 : Memref sig .scVector .hbm S16 .i32) (harg3 : arg3.IsWhole) (arg4 : Memref sig .scVector .hbm S16 .i32) (harg4 : arg4.IsWhole)
    (arg5 : Memref sig .scVector .hbm S32x16x64 .f32) (harg5 : arg5.IsWhole) (arg6 : Memref sig .scVector .vmem S256x128 .f32) (harg6 : arg6.IsWhole)
    (arg7 : Memref sig .scVector .vmem S256x128 .f32) (harg7 : arg7.IsWhole) (arg8 : Memref sig .scVector .vmem S16x64 .f32) (harg8 : arg8.IsWhole)
    (arg9 : Memref sig .scVector .vmem S16 .i32) (harg9 : arg9.IsWhole) (arg10 : Memref sig .scVector .vmem S16 .i32) (harg10 : arg10.IsWhole)
    (arg11 : DmaSems sig S_) (arg12 : DmaSems sig S_) (r0 : DmaSems sig S_) (r1 : DmaSems sig S_) (r2 : DmaSems sig S_)
    {q3 q4 p0 p1 p2 p3 : PosShare TreeShare} {V V9 T T9 : IVec S16 32} {H0 H1 H2 H3 Y6 Y7 : FVec F S256x128 .f32} {X Z : FVec F S16x64 .f32}
    {Q : PUnit → sProp (MT nD τ sig Ix (Elt F) Name U Lvl)}
    (hQ : iprop(owns (thr1 d i) arg8 fullShare (tileVal (base1 i) V T H0 H1 H2 H3) ∗ owns (thr1 d i) (row1 i arg5) fullShare (tileVal (base1 i) V T H0 H1 H2 H3)
        ∗ semVal (thr1 d i, .dma r2.sem) 0 ∗ Transfers.MayWaits (thr1 d i) ι O ∗ owing ι O W (thr1 d i)
        ∗ ((owns (thr1 d i) arg3 q3 V ∗ owns (thr1 d i) arg4 q4 T ∗ semVal (thr1 d i, .dma r0.sem) 0 ∗ semVal (thr1 d i, .dma r1.sem) 0)
            ∗ owns (thr1 d i) arg9 fullShare V ∗ owns (thr1 d i) arg10 fullShare T) ∗ semVal (thr1 d i, .dma arg11.sem) 0
        ∗ owns (thr1 d i) arg6 fullShare H2 ∗ owns (thr1 d i) arg7 fullShare H3 ∗ semVal (thr1 d i, .dma arg12.sem) 0) ⊢ Q ⟨⟩) :
    iprop(owns (thr1 d i) arg3 q3 V ∗ owns (thr1 d i) arg9 fullShare V9 ∗ semVal (thr1 d i, .dma r0.sem) 0 ∗ Transfers.MayWaits (thr1 d i) ι O ∗ owing ι O W (thr1 d i)
      ∗ (owns (thr1 d i) arg4 q4 T ∗ owns (thr1 d i) arg10 fullShare T9 ∗ semVal (thr1 d i, .dma r1.sem) 0
      ∗ (owns (thr1 d i) arg8 fullShare X ∗ owns (thr1 d i) arg6 fullShare Y6 ∗ owns (thr1 d i) arg7 fullShare Y7
      ∗ owns (thr1 d i) (arg2.slice (Rect.unit (s := S32768x128) (k1_off1 i 0#32) S256x128.size (k1_off1_inb i 0)) (fun _ => rfl)) p0 H0
      ∗ semVal (thr1 d i, .dma arg11.sem) 0
      ∗ (owns (thr1 d i) (arg2.slice (Rect.unit (s := S32768x128) (k1_off1 i 256#32) S256x128.size (k1_off1_inb i 1)) (fun _ => rfl)) p1 H1
      ∗ semVal (thr1 d i, .dma arg12.sem) 0
      ∗ owns (thr1 d i) (arg2.slice (Rect.unit (s := S32768x128) (k1_off258 i 512#32) S256x128.size (k1_off258_inb i 1)) (fun _ => rfl)) p2 H2
      ∗ owns (thr1 d i) (arg2.slice (Rect.unit (s := S32768x128) (k1_off258 i 768#32) S256x128.size (k1_off258_inb i 2)) (fun _ => rfl)) p3 H3
      ∗ owns (thr1 d i) (row1 i arg5) fullShare Z ∗ semVal (thr1 d i, .dma r2.sem) 0)))) ⊢
    wp frame (wpE defs 𝒱 (thr1 d i) bd) Set.univ
      (cc1__segmax_body i arg2 harg2 arg3 harg3 arg4 harg4 arg5 harg5 arg6 harg6 arg7 harg7 arg8 harg8 arg9 harg9 arg10 harg10 arg11 arg12 r0 r1 r2) Q := by
  unfold cc1__segmax_body
  refine bind_step 𝒱 _ bd _ ?_
  unfold k1_part55
  refine bind_step 𝒱 _ bd _ ?_
  unfold k1_part1
  refine copy_step 𝒱 _ bd ι O W (by decide) ?_
  refine perm_tables ?_
  refine copy_step 𝒱 _ bd ι O W (by decide) ?_
  refine perm_fill (fill_zero _ (Scalar.ofBits .f32 0xFF800000#32)) ?_
  iterate 6 (refine fill_load 𝒱 _ bd _ fun _ => ?_; refine fill_store 𝒱 _ bd _ (by decide) rfl ?_)
  refine pure_step 𝒱 _ bd _ ?_
  refine bind_step 𝒱 _ bd _ ?_
  unfold k1_part2
  iterate 9 (refine fill_load 𝒱 _ bd _ fun _ => ?_; refine fill_store 𝒱 _ bd _ (by decide) rfl ?_)
  refine pure_step 𝒱 _ bd _ ?_
  refine bind_step 𝒱 _ bd _ ?_
  unfold k1_part3
  iterate 8 (refine fill_load 𝒱 _ bd _ fun _ => ?_; refine fill_store 𝒱 _ bd _ (by decide) rfl ?_)
  refine fill_load 𝒱 _ bd _ fun _ => ?_
  refine pure_step 𝒱 _ bd _ ?_
  refine bind_step 𝒱 _ bd _ ?_
  unfold k1_part4
  iterate 8 (refine fill_store 𝒱 _ bd _ (by decide) rfl ?_; refine fill_load 𝒱 _ bd _ fun _ => ?_)
  refine fill_store 𝒱 _ bd _ (by decide) rfl ?_
  refine pure_step 𝒱 _ bd _ ?_
  refine bind_step 𝒱 _ bd _ ?_
  unfold k1_part5
  iterate 8 (refine fill_load 𝒱 _ bd _ fun _ => ?_; refine fill_store 𝒱 _ bd _ (by decide) rfl ?_)
  refine fill_load 𝒱 _ bd _ fun _ => ?_
  refine pure_step 𝒱 _ bd _ ?_
  refine bind_step 𝒱 _ bd _ ?_
  unfold k1_part6
  iterate 8 (refine fill_store 𝒱 _ bd _ (by decide) rfl ?_; refine fill_load 𝒱 _ bd _ fun _ => ?_)
  refine fill_store 𝒱 _ bd _ (by decide) rfl ?_
  refine pure_step 𝒱 _ bd _ ?_
  refine bind_step 𝒱 _ bd _ ?_
  unfold k1_part7
  iterate 8 (refine fill_load 𝒱 _ bd _ fun _ => ?_; refine fill_store 𝒱 _ bd _ (by decide) rfl ?_)
  refine fill_load 𝒱 _ bd _ fun _ => ?_
  refine pure_step 𝒱 _ bd _ ?_
  refine bind_step 𝒱 _ bd _ ?_
  unfold k1_part8
  iterate 6 (refine fill_store 𝒱 _ bd _ (by decide) rfl ?_; refine fill_load 𝒱 _ bd _ fun _ => ?_)
  refine fill_store 𝒱 _ bd _ (by decide) rfl ?_
  refine table_load_second 𝒱 _ bd _ ?_
  refine table_load_third 𝒱 _ bd _ ?_
  refine assume_step 𝒱 _ bd _ (side _ _ _ _ _ _ _ _ (by decide)) ?_
  refine pure_step 𝒱 _ bd _ ?_
  refine bind_step 𝒱 _ bd _ ?_
  unfold k1_part9
  iterate 3 refine assume_step 𝒱 _ bd _ (side _ _ _ _ _ _ _ _ (by decide)) ?_
  refine pure_step 𝒱 _ bd _ ?_
  refine bind_step 𝒱 _ bd _ ?_
  unfold k1_part10
  iterate 4 refine assume_step 𝒱 _ bd _ (side _ _ _ _ _ _ _ _ (by decide)) ?_
  refine pure_step 𝒱 _ bd _ ?_
  refine bind_step 𝒱 _ bd _ ?_
  unfold k1_part11
  iterate 3 refine assume_step 𝒱 _ bd _ (side _ _ _ _ _ _ _ _ (by decide)) ?_
  refine pure_step 𝒱 _ bd _ ?_
  refine bind_step 𝒱 _ bd _ ?_
  unfold k1_part12
  iterate 4 refine assume_step 𝒱 _ bd _ (side _ _ _ _ _ _ _ _ (by decide)) ?_
  refine pure_step 𝒱 _ bd _ ?_
  refine bind_step 𝒱 _ bd _ ?_
  unfold k1_part13
  iterate 3 refine assume_step 𝒱 _ bd _ (side _ _ _ _ _ _ _ _ (by decide)) ?_
  refine pure_step 𝒱 _ bd _ ?_
  refine bind_step 𝒱 _ bd _ ?_
  unfold k1_part14
  iterate 4 refine assume_step 𝒱 _ bd _ (side _ _ _ _ _ _ _ _ (by decide)) ?_
  refine pure_step 𝒱 _ bd _ ?_
  refine bind_step 𝒱 _ bd _ ?_
  unfold k1_part15
  iterate 3 refine assume_step 𝒱 _ bd _ (side _ _ _ _ _ _ _ _ (by decide)) ?_
  refine pure_step 𝒱 _ bd _ ?_
  refine bind_step 𝒱 _ bd _ ?_
  unfold k1_part16
  iterate 4 refine assume_step 𝒱 _ bd _ (side _ _ _ _ _ _ _ _ (by decide)) ?_
  refine pure_step 𝒱 _ bd _ ?_
  refine bind_step 𝒱 _ bd _ ?_
  unfold k1_part17
  iterate 3 refine assume_step 𝒱 _ bd _ (side _ _ _ _ _ _ _ _ (by decide)) ?_
  refine perm_first (fill_all _) ?_
  refine switch_start 𝒱 _ bd ι O W (by decide) ?_
  refine pure_step 𝒱 _ bd _ ?_
  refine bind_step 𝒱 _ bd _ ?_
  unfold k1_part18
  refine perm_second ?_
  refine switch_start 𝒱 _ bd ι O W (by decide) ?_
  refine switch_wait 𝒱 _ bd ι O W ?_
  iterate 2 refine blk_step 𝒱 _ bd _ (fun t => ⟨rfl, rfl, rfl, rfl⟩) (by decide) ?_
  refine pure_step 𝒱 _ bd _ ?_
  refine bind_step 𝒱 _ bd _ ?_
  unfold k1_part19
  iterate 4 refine blk_step 𝒱 _ bd _ (fun t => ⟨rfl, rfl, rfl, rfl⟩) (by decide) ?_
  refine pure_step 𝒱 _ bd _ ?_
  refine bind_step 𝒱 _ bd _ ?_
  unfold k1_part20
  iterate 3 refine blk_step 𝒱 _ bd _ (fun t => ⟨rfl, rfl, rfl, rfl⟩) (by decide) ?_
  refine pure_step 𝒱 _ bd _ ?_
  refine bind_step 𝒱 _ bd _ ?_
  unfold k1_part21
  iterate 4 refine blk_step 𝒱 _ bd _ (fun t => ⟨rfl, rfl, rfl, rfl⟩) (by decide) ?_
  refine pure_step 𝒱 _ bd _ ?_
  refine bind_step 𝒱 _ bd _ ?_
  unfold k1_part22
  iterate 3 refine blk_step 𝒱 _ bd _ (fun t => ⟨rfl, rfl, rfl, rfl⟩) (by decide) ?_
  refine pure_step 𝒱 _ bd _ ?_
  refine bind_step 𝒱 _ bd _ ?_
  unfold k1_part23
  iterate 4 refine blk_step 𝒱 _ bd _ (fun t => ⟨rfl, rfl, rfl, rfl⟩) (by decide) ?_
  refine pure_step 𝒱 _ bd _ ?_
  refine bind_step 𝒱 _ bd _ ?_
  unfold k1_part24
  iterate 3 refine blk_step 𝒱 _ bd _ (fun t => ⟨rfl, rfl, rfl, rfl⟩) (by decide) ?_
  refine pure_step 𝒱 _ bd _ ?_
  refine bind_step 𝒱 _ bd _ ?_
  unfold k1_part25
  iterate 4 refine blk_step 𝒱 _ bd _ (fun t => ⟨rfl, rfl, rfl, rfl⟩) (by decide) ?_
  refine pure_step 𝒱 _ bd _ ?_
  refine bind_step 𝒱 _ bd _ ?_
  unfold k1_part26
  iterate 3 refine blk_step 𝒱 _ bd _ (fun t => ⟨rfl, rfl, rfl, rfl⟩) (by decide) ?_
  refine pure_step 𝒱 _ bd _ ?_
  refine bind_step 𝒱 _ bd _ ?_
  unfold k1_part27
  iterate 2 refine blk_step 𝒱 _ bd _ (fun t => ⟨rfl, rfl, rfl, rfl⟩) (by decide) ?_
  refine switch_start 𝒱 _ bd ι O W (by decide) ?_
  refine switch_wait 𝒱 _ bd ι O W ?_
  refine blk_step 𝒱 _ bd _ (fun t => ⟨rfl, rfl, rfl, rfl⟩) (by decide) ?_
  refine pure_step 𝒱 _ bd _ ?_
  refine bind_step 𝒱 _ bd _ ?_
  unfold k1_part28
  iterate 4 refine blk_step 𝒱 _ bd _ (fun t => ⟨rfl, rfl, rfl, rfl⟩) (by decide) ?_
  refine pure_step 𝒱 _ bd _ ?_
  refine bind_step 𝒱 _ bd _ ?_
  unfold k1_part29
  iterate 3 refine blk_step 𝒱 _ bd _ (fun t => ⟨rfl, rfl, rfl, rfl⟩) (by decide) ?_
  refine pure_step 𝒱 _ bd _ ?_
  refine bind_step 𝒱 _ bd _ ?_
  unfold k1_part30
  iterate 4 refine blk_step 𝒱 _ bd _ (fun t => ⟨rfl, rfl, rfl, rfl⟩) (by decide) ?_
  refine pure_step 𝒱 _ bd _ ?_
  refine bind_step 𝒱 _ bd _ ?_
  unfold k1_part31
  iterate 3 refine blk_step 𝒱 _ bd _ (fun t => ⟨rfl, rfl, rfl, rfl⟩) (by decide) ?_
  refine pure_step 𝒱 _ bd _ ?_
  refine bind_step 𝒱 _ bd _ ?_
  unfold k1_part32
  iterate 4 refine blk_step 𝒱 _ bd _ (fun t => ⟨rfl, rfl, rfl, rfl⟩) (by decide) ?_
  refine pure_step 𝒱 _ bd _ ?_
  refine bind_step 𝒱 _ bd _ ?_
  unfold k1_part33
  iterate 3 refine blk_step 𝒱 _ bd _ (fun t => ⟨rfl, rfl, rfl, rfl⟩) (by decide) ?_
  refine pure_step 𝒱 _ bd _ ?_
  refine bind_step 𝒱 _ bd _ ?_
  unfold k1_part34
  iterate 4 refine blk_step 𝒱 _ bd _ (fun t => ⟨rfl, rfl, rfl, rfl⟩) (by decide) ?_
  refine pure_step 𝒱 _ bd _ ?_
  refine bind_step 𝒱 _ bd _ ?_
  unfold k1_part35
  iterate 3 refine blk_step 𝒱 _ bd _ (fun t => ⟨rfl, rfl, rfl, rfl⟩) (by decide) ?_
  refine pure_step 𝒱 _ bd _ ?_
  refine bind_step 𝒱 _ bd _ ?_
  unfold k1_part36
  iterate 3 refine blk_step 𝒱 _ bd _ (fun t => ⟨rfl, rfl, rfl, rfl⟩) (by decide) ?_
  refine switch_start 𝒱 _ bd ι O W (by decide) ?_
  refine switch_wait 𝒱 _ bd ι O W ?_
  refine pure_step 𝒱 _ bd _ ?_
  refine bind_step 𝒱 _ bd _ ?_
  unfold k1_part37
  iterate 4 refine blk_step 𝒱 _ bd _ (fun t => ⟨rfl, rfl, rfl, rfl⟩) (by decide) ?_
  refine pure_step 𝒱 _ bd _ ?_
  refine bind_step 𝒱 _ bd _ ?_
  unfold k1_part38
  iterate 3 refine blk_step 𝒱 _ bd _ (fun t => ⟨rfl, rfl, rfl, rfl⟩) (by decide) ?_
  refine pure_step 𝒱 _ bd _ ?_
  refine bind_step 𝒱 _ bd _ ?_
  unfold k1_part39
  iterate 4 refine blk_step 𝒱 _ bd _ (fun t => ⟨rfl, rfl, rfl, rfl⟩) (by decide) ?_
  refine pure_step 𝒱 _ bd _ ?_
  refine bind_step 𝒱 _ bd _ ?_
  unfold k1_part40
  iterate 3 refine blk_step 𝒱 _ bd _ (fun t => ⟨rfl, rfl, rfl, rfl⟩) (by decide) ?_
  refine pure_step 𝒱 _ bd _ ?_
  refine bind_step 𝒱 _ bd _ ?_
  unfold k1_part41
  iterate 4 refine blk_step 𝒱 _ bd _ (fun t => ⟨rfl, rfl, rfl, rfl⟩) (by decide) ?_
  refine pure_step 𝒱 _ bd _ ?_
  refine bind_step 𝒱 _ bd _ ?_
  unfold k1_part42
  iterate 3 refine blk_step 𝒱 _ bd _ (fun t => ⟨rfl, rfl, rfl, rfl⟩) (by decide) ?_
  refine pure_step 𝒱 _ bd _ ?_
  refine bind_step 𝒱 _ bd _ ?_
  unfold k1_part43
  iterate 4 refine blk_step 𝒱 _ bd _ (fun t => ⟨rfl, rfl, rfl, rfl⟩) (by decide) ?_
  refine pure_step 𝒱 _ bd _ ?_
  refine bind_step 𝒱 _ bd _ ?_
  unfold k1_part44
  iterate 3 refine blk_step 𝒱 _ bd _ (fun t => ⟨rfl, rfl, rfl, rfl⟩) (by decide) ?_
  refine pure_step 𝒱 _ bd _ ?_
  refine bind_step 𝒱 _ bd _ ?_
  unfold k1_part45
  iterate 4 refine blk_step 𝒱 _ bd _ (fun t => ⟨rfl, rfl, rfl, rfl⟩) (by decide) ?_
  refine pure_step 𝒱 _ bd _ ?_
  refine bind_step 𝒱 _ bd _ ?_
  unfold k1_part46
  refine perm_last ?_
  refine switch_wait 𝒱 _ bd ι O W ?_
  iterate 3 refine blk_step 𝒱 _ bd _ (fun t => ⟨rfl, rfl, rfl, rfl⟩) (by decide) ?_
  refine pure_step 𝒱 _ bd _ ?_
  refine bind_step 𝒱 _ bd _ ?_
  unfold k1_part47
  iterate 4 refine blk_step 𝒱 _ bd _ (fun t => ⟨rfl, rfl, rfl, rfl⟩) (by decide) ?_
  refine pure_step 𝒱 _ bd _ ?_
  refine bind_step 𝒱 _ bd _ ?_
  unfold k1_part48
  iterate 3 refine blk_step 𝒱 _ bd _ (fun t => ⟨rfl, rfl, rfl, rfl⟩) (by decide) ?_
  refine pure_step 𝒱 _ bd _ ?_
  refine bind_step 𝒱 _ bd _ ?_
  unfold k1_part49
  iterate 4 refine blk_step 𝒱 _ bd _ (fun t => ⟨rfl, rfl, rfl, rfl⟩) (by decide) ?_
  refine pure_step 𝒱 _ bd _ ?_
  refine bind_step 𝒱 _ bd _ ?_
  unfold k1_part50
  iterate 3 refine blk_step 𝒱 _ bd _ (fun t => ⟨rfl, rfl, rfl, rfl⟩) (by decide) ?_
  refine pure_step 𝒱 _ bd _ ?_
  refine bind_step 𝒱 _ bd _ ?_
  unfold k1_part51
  iterate 4 refine blk_step 𝒱 _ bd _ (fun t => ⟨rfl, rfl, rfl, rfl⟩) (by decide) ?_
  refine pure_step 𝒱 _ bd _ ?_
  refine bind_step 𝒱 _ bd _ ?_
  unfold k1_part52
  iterate 3 refine blk_step 𝒱 _ bd _ (fun t => ⟨rfl, rfl, rfl, rfl⟩) (by decide) ?_
  refine pure_step 𝒱 _ bd _ ?_
  refine bind_step 𝒱 _ bd _ ?_
  unfold k1_part53
  iterate 4 refine blk_step 𝒱 _ bd _ (fun t => ⟨rfl, rfl, rfl, rfl⟩) (by decide) ?_
  refine pure_step 𝒱 _ bd _ ?_
  refine bind_step 𝒱 _ bd _ ?_
  unfold k1_part54
  iterate 3 refine blk_step 𝒱 _ bd _ (fun t => ⟨rfl, rfl, rfl, rfl⟩) (by decide) ?_
  refine pure_step 𝒱 _ bd _ ?_
  refine blk_step 𝒱 _ bd _ (fun t => ⟨rfl, rfl, rfl, rfl⟩) (by decide) ?_
  refine pure_step 𝒱 _ bd _ ?_
  refine perm_out ?_
  refine copy_step 𝒱 _ bd ι O W (by decide) ?_
  refine pure_step 𝒱 _ bd _ ?_
  exact hQ

end Cert.KernelIdeal

end
-- ==== Proof.BodyIdeal.lean ====
/-
  The bodies of the three TensorCore calls, run once: `_mlp` (twice, over the two halves of the rows) and `_combine`.
-/
module

public import proofs.«01_k».proof.Proof.Whole
public import proofs.«01_k».proof.KernelIdeal

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Proof.Block

variable [Facts] {F : FTy → Type} [FloatOps F]

open Facts₀ Facts

variable {Ix : Type} [DecidableEq Ix] {Name : Type} [DecidableEq Name] {U : Type} [URA U] {Lvl : Type} [Preorder Lvl]

/-- One half of `_mlp`'s block: rows of features and positions, transposed, against the two parts of the weights, the
    bias added, nothing below zero. -/
def half (x : FVec F S61x4096 .f32) (p : FVec F S3x4096 .f32) (wx : FVec F S61x64 .f32) (wq : FVec F S3x64 .f32) (b : FVec F S1x64 .f32) :
    FVec F S4096x64 .f32 :=
  maximumf (addf (addf
      (matmul dot_S61x4096_S61x64_S4096x64_0_0_1_1_n_n none (shapeCast S61x4096 x shapeCasts_S61x4096_S61x4096)
        (shapeCast S61x64 wx shapeCasts_S61x64_S61x64) (constant S4096x64 .f32 0x00000000#32))
      (matmul dot_S3x4096_S3x64_S4096x64_0_0_1_1_n_n none (shapeCast S3x4096 p shapeCasts_S3x4096_S3x4096)
        (shapeCast S3x64 wq shapeCasts_S3x64_S3x64) (constant S4096x64 .f32 0x00000000#32)))
      (broadcastTo S4096x64 (shapeCast S1x64 b shapeCasts_S1x64_S1x64) broadcasts_S1x64_S4096x64))
    (broadcast S4096x64 (Scalar.ofBits .f32 0x00000000#32))

/-- `_mlp`'s block: its two halves side by side. -/
def both (x x' : FVec F S61x4096 .f32) (p p' : FVec F S3x4096 .f32) (wx : FVec F S61x64 .f32) (wq : FVec F S3x64 .f32) (b : FVec F S1x64 .f32) :
    FVec F S4096x128 .f32 :=
  concatenate S4096x128 1 [⟨S4096x64, half x p wx wq b⟩, ⟨S4096x64, half x' p' wx wq b⟩] concatenates_S4096x64_S4096x64_S4096x128_d1

/-- `_combine`'s result: the greater of the two tables' maxima over the tiles. -/
def joined (X Y : FVec F S32x16x64 .f32) : FVec F S16x64 .f32 :=
  maximumf (multiReduction .maximumf [0] S16x64 (shapeCast S32x16x64 X shapeCasts_S32x16x64_S32x16x64) 0xFF800000#32 reduces_S32x16x64_S16x64 (.inl rfl) rfl)
    (multiReduction .maximumf [0] S16x64 (shapeCast S32x16x64 Y shapeCasts_S32x16x64_S32x16x64) 0xFF800000#32 reduces_S32x16x64_S16x64 (.inl rfl) rfl)

variable {defs : Defs nD τ sig (Elt F) Λ₀} (𝒱 : Variants) (d : Dev nD) (bd : Option 𝒱.V)
  {Q : PUnit → sProp (MT nD τ sig Ix (Elt F) Name U Lvl)}

section Mlp

variable (arg1 : Memref sig .tc .vmem S61x4096 .f32) (harg1 : arg1.IsWhole) (arg2 : Memref sig .tc .vmem S61x4096 .f32) (harg2 : arg2.IsWhole)
  (arg3 : Memref sig .tc .vmem S3x4096 .f32) (harg3 : arg3.IsWhole) (arg4 : Memref sig .tc .vmem S3x4096 .f32) (harg4 : arg4.IsWhole)
  (arg5 : Memref sig .tc .vmem S61x64 .f32) (harg5 : arg5.IsWhole) (arg6 : Memref sig .tc .vmem S3x64 .f32) (harg6 : arg6.IsWhole)
  (arg7 : Memref sig .tc .vmem S1x64 .f32) (harg7 : arg7.IsWhole) (arg8 : Memref sig .tc .vmem S4096x128 .f32) (harg8 : arg8.IsWhole)
  (x x' : FVec F S61x4096 .f32) (p p' : FVec F S3x4096 .f32) (wx : FVec F S61x64 .f32) (wq : FVec F S3x64 .f32) (b : FVec F S1x64 .f32)

/-- The seven buffers `_mlp` reads, at what they hold. -/
def ins : sProp (MT nD τ sig Ix (Elt F) Name U Lvl) :=
  iprop(owns (d.tc : Thread nD τ) arg1 fullShare x ∗ owns (d.tc : Thread nD τ) arg2 fullShare x' ∗ owns (d.tc : Thread nD τ) arg3 fullShare p
    ∗ owns (d.tc : Thread nD τ) arg4 fullShare p' ∗ owns (d.tc : Thread nD τ) arg5 fullShare wx ∗ owns (d.tc : Thread nD τ) arg6 fullShare wq
    ∗ owns (d.tc : Thread nD τ) arg7 fullShare b)

/-- `_mlp`'s body over the first half of the rows: the block's result buffer is left at `both`. -/
theorem mlp0 (i : grid0.Coords) (X : FVec F S4096x128 .f32) :
    iprop(ins d arg1 arg2 arg3 arg4 arg5 arg6 arg7 x x' p p' wx wq b ∗ owns (d.tc : Thread nD τ) arg8 fullShare X
      ∗ (iprop(ins d arg1 arg2 arg3 arg4 arg5 arg6 arg7 x x' p p' wx wq b ∗ owns (d.tc : Thread nD τ) arg8 fullShare (both x x' p p' wx wq b)) -∗ Q ⟨⟩))
    ⊢ wp frame (wpE defs 𝒱 (d.tc : Thread nD τ) bd) Set.univ
        (cc0__mlp_body i arg1 harg1 arg2 harg2 arg3 harg3 arg4 harg4 arg5 harg5 arg6 harg6 arg7 harg7 arg8 harg8) Q := by
  unfold ins cc0__mlp_body
  refine bind_step 𝒱 (d.tc : Thread nD τ) bd Set.univ ?_
  unfold k0_part1
  iintro ⟨⟨H1, H2, H3, H4, H5, H6, H7⟩, H8, HK⟩
  iapply (whole_load 𝒱 (d.tc : Thread nD τ) bd Set.univ) $$ H1
  iintro H1
  iapply (whole_load 𝒱 (d.tc : Thread nD τ) bd Set.univ) $$ H5
  iintro H5
  iapply (whole_load 𝒱 (d.tc : Thread nD τ) bd Set.univ) $$ H3
  iintro H3
  iapply (whole_load 𝒱 (d.tc : Thread nD τ) bd Set.univ) $$ H6
  iintro H6
  iapply (whole_load 𝒱 (d.tc : Thread nD τ) bd Set.univ) $$ H7
  iintro H7
  iapply (whole_load 𝒱 (d.tc : Thread nD τ) bd Set.univ) $$ H2
  iintro H2
  iapply (whole_load 𝒱 (d.tc : Thread nD τ) bd Set.univ) $$ H5
  iintro H5
  iapply (whole_load 𝒱 (d.tc : Thread nD τ) bd Set.univ) $$ H4
  iintro H4
  iapply (whole_load 𝒱 (d.tc : Thread nD τ) bd Set.univ) $$ H6
  iintro H6
  iapply (whole_load 𝒱 (d.tc : Thread nD τ) bd Set.univ) $$ H7
  iintro H7
  iapply (pure_step 𝒱 (d.tc : Thread nD τ) bd Set.univ (BI.Entails.refl _))
  iapply (whole_load 𝒱 (d.tc : Thread nD τ) bd Set.univ) $$ H8
  iintro H8
  iapply (whole_store 𝒱 (d.tc : Thread nD τ) bd Set.univ) $$ H8
  iintro H8
  iapply (pure_step 𝒱 (d.tc : Thread nD τ) bd Set.univ (BI.Entails.refl _))
  iapply HK
  isplitr [H8]
  · isplitl [H1]; · iexact H1
    isplitl [H2]; · iexact H2
    isplitl [H3]; · iexact H3
    isplitl [H4]; · iexact H4
    isplitl [H5]; · iexact H5
    isplitl [H6]; · iexact H6
    iexact H7
  iexact H8

/-- Over the second half of the rows the body is the same. -/
theorem mlp2 (i : grid2.Coords) (X : FVec F S4096x128 .f32) :
    iprop(ins d arg1 arg2 arg3 arg4 arg5 arg6 arg7 x x' p p' wx wq b ∗ owns (d.tc : Thread nD τ) arg8 fullShare X
      ∗ (iprop(ins d arg1 arg2 arg3 arg4 arg5 arg6 arg7 x x' p p' wx wq b ∗ owns (d.tc : Thread nD τ) arg8 fullShare (both x x' p p' wx wq b)) -∗ Q ⟨⟩))
    ⊢ wp frame (wpE defs 𝒱 (d.tc : Thread nD τ) bd) Set.univ
        (cc2__mlp_body i arg1 harg1 arg2 harg2 arg3 harg3 arg4 harg4 arg5 harg5 arg6 harg6 arg7 harg7 arg8 harg8) Q :=
  mlp0 𝒱 d bd arg1 harg1 arg2 harg2 arg3 harg3 arg4 harg4 arg5 harg5 arg6 harg6 arg7 harg7 arg8 harg8 x x' p p' wx wq b i X

end Mlp

/-- `_combine`'s body: the result buffer is left at `joined`. -/
theorem combine (arg0 : Memref sig .tc .vmem S32x16x64 .f32) (harg0 : arg0.IsWhole) (arg1 : Memref sig .tc .vmem S32x16x64 .f32) (harg1 : arg1.IsWhole)
    (arg2 : Memref sig .tc .vmem S16x64 .f32) (harg2 : arg2.IsWhole) (X Y : FVec F S32x16x64 .f32) (Z : FVec F S16x64 .f32) :
    iprop(owns (d.tc : Thread nD τ) arg0 fullShare X ∗ owns (d.tc : Thread nD τ) arg1 fullShare Y ∗ owns (d.tc : Thread nD τ) arg2 fullShare Z
      ∗ (iprop(owns (d.tc : Thread nD τ) arg0 fullShare X ∗ owns (d.tc : Thread nD τ) arg1 fullShare Y ∗ owns (d.tc : Thread nD τ) arg2 fullShare (joined X Y)) -∗ Q ⟨⟩))
    ⊢ wp frame (wpE defs 𝒱 (d.tc : Thread nD τ) bd) Set.univ (cc4__combine_body arg0 harg0 arg1 harg1 arg2 harg2) Q := by
  unfold cc4__combine_body
  iintro ⟨H0, H1, H2, HK⟩
  iapply (whole_load 𝒱 (d.tc : Thread nD τ) bd Set.univ) $$ H0
  iintro H0
  iapply (whole_load 𝒱 (d.tc : Thread nD τ) bd Set.univ) $$ H1
  iintro H1
  iapply (whole_load 𝒱 (d.tc : Thread nD τ) bd Set.univ) $$ H2
  iintro H2
  iapply (whole_store 𝒱 (d.tc : Thread nD τ) bd Set.univ) $$ H2
  iintro H2
  iapply (pure_step 𝒱 (d.tc : Thread nD τ) bd Set.univ (BI.Entails.refl _))
  iapply HK
  isplitl [H0]; · iexact H0
  isplitl [H1]; · iexact H1
  iexact H2

end Cert.KernelIdeal
-- ==== Proof.RegionsIdeal.lean ====
/-
  The three TensorCore calls as regions of the program: what each leaves in its result, and the state it is entered from
  and left in. Between the calls the TensorCore still owes the starts of the SparseCore calls to come, so each region is
  run owing those and keeps the bound on the waits recorded so far.
-/
module

public import proofs.«01_k».proof.Proof.BodyIdeal
public import proofs.«01_k».proof.Proof.Gen.KernelIdeal.Launch
public import proofs.«01_k».proof.Proof.Gen.KernelIdeal.Points
public import Idealize.ShloMosaic.Lib.SparseCore.Quiescent
public import Idealize.ShloMosaic.Lib.Pipeline.RegionArrays
public import Idealize.ShloMosaic.Lib.Pipeline.FrameBody

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T S V)
open Idealize.ShloMosaic.SparseCore.Cfg (HIx)
open Idealize.ShloMosaic.Pipeline (Dat BodyObligation)

variable {F : FTy → Type} [FloatOps F]

/-! ## The program's set-up -/

/-- The labels with the pipelined calls' added. -/
abbrev ΛP : Labels := Pipeline.Sig Λ₀ (Fin 3) fun p => (pcfgs (F := F) p).Adm
/-- The SparseCore calls' configuration. -/
abbrev K : SparseCore.Cfg τ sig (ΛP (F := F)) 2 := sc (F := F)
/-- The program's definitions with the pipelined calls' added. -/
abbrev D : Defs nD τ sig (Elt F) (ΛP (F := F)) := Pipeline.defs pcfgs defs₀
/-- No loop needs a variant, -/
abbrev 𝒱₀ : Variants := Variants.none
/-- nor does a pipelined call, -/
abbrev 𝒱 : Variants := 𝒱₀.lift
/-- so the variant is the trivial one. -/
abbrev v₀ : 𝒱.V := Sum.inl none
/-- The pipelined calls' configurations are admissible. -/
abbrev adm : (p : Fin 3) → (pcfgs (F := F) p).Adm := fun p => (cfgs p).toPCfg_adm

/-- The handshakes' rounds, the pipelines' rounds, the transfers' counters. -/
abbrev UH : Type := URounds (GSem nD τ sig) ℕ
/-- The ghost state of the pipelined calls' rounds. -/
abbrev UP : Type := URounds (GSem nD τ sig) Unit
/-- The whole ghost state: the hand-overs', the rounds', the copies'. -/
abbrev UU : Type := UH × (UP × Counters)

local notation "𝕄" => MT nD τ sig (HIx 2) (Elt F) ℕ UU ℕ

/-- The hand-overs' part of the ghost state. -/
abbrev EH : Emb UH (MT nD τ sig (HIx 2) (Elt F) ℕ UU ℕ) := embL

/-- The pipelines' rounds among the resources. -/
def EP : Emb UP (MT nD τ sig (HIx 2) (Elt F) ℕ UU ℕ) := (Emb.inl : Emb UP (UP × Counters)).trans embR

/-- The rounds' part lies in the user's part. -/
instance EP_landsIn : (EP : Emb UP (MT nD τ sig (HIx 2) (Elt F) ℕ UU ℕ)).LandsIn (upEmb : UEmb _ (MT nD τ sig (HIx 2) (Elt F) ℕ UU ℕ)) := by
  unfold EP; infer_instance

/-! ## What each region leaves -/

variable (W : (p : Fin 3) → (c : Dev nD) → (b : Ref sig .tc) → Buf (Elt F) ((c : Thread nD τ).loc b))

/-- The pairs a region may find recorded before it: none above the calls made so far. -/
abbrev seen (p : Fin 3) (c : Dev nD) : Set (SemLoc sig × HIx 2) := {q | (K (F := F)).lev ((T c : Thread nD τ), q.1) q.2 ≤ 8 * p.val}

/-- A window's block at a point, read off the array the region is entered with. -/
abbrev blk0 (c : Dev nD) (w : Fin 8) (t : Fin cfg0.N) : ((cfg0.win w).xblock (cfg0.grid.coords t)).Idx → Elt F (cfg0.win w).elt :=
  ((cfg0.win w).blk t).view.read (Elt F) (W 0 c (Pipeline.arrRef spec0 w))
/-- A window's block at a point of the second `_mlp` call. -/
abbrev blk2 (c : Dev nD) (w : Fin 8) (t : Fin cfg2.N) : ((cfg2.win w).xblock (cfg2.grid.coords t)).Idx → Elt F (cfg2.win w).elt :=
  ((cfg2.win w).blk t).view.read (Elt F) (W 1 c (Pipeline.arrRef spec2 w))
/-- A window's block at the point of the `_combine` call. -/
abbrev blk4 (c : Dev nD) (w : Fin 3) (t : Fin cfg4.N) : ((cfg4.win w).xblock (cfg4.grid.coords t)).Idx → Elt F (cfg4.win w).elt :=
  ((cfg4.win w).blk t).view.read (Elt F) (W 2 c (Pipeline.arrRef spec4 w))

/-- The shares a region of `_mlp` holds its arrays at: the two arrays read through two windows, a half by each. -/
def halves (w : Fin 8) : PosShare TreeShare := match w with
  | 0 => fullShare.left | 1 => fullShare.right | 2 => fullShare.left | 3 => fullShare.right | _ => fullShare

/-- The first `_mlp` call's values: what each window holds after each point. -/
def dat0 (c : Dev nD) : Dat τ (Elt F) (HIx 2) ℕ UU ℕ cfg0 c where
  A w := W 0 c (Pipeline.arrRef spec0 w)
  after w t := match w with
    | ⟨0, _⟩ => blk0 W c 0 t
    | ⟨1, _⟩ => blk0 W c 1 t
    | ⟨2, _⟩ => blk0 W c 2 t
    | ⟨3, _⟩ => blk0 W c 3 t
    | ⟨4, _⟩ => blk0 W c 4 t
    | ⟨5, _⟩ => blk0 W c 5 t
    | ⟨6, _⟩ => blk0 W c 6 t
    | ⟨7, _⟩ => both (blk0 W c 0 t) (blk0 W c 1 t) (blk0 W c 2 t) (blk0 W c 3 t) (blk0 W c 4 t) (blk0 W c 5 t) (blk0 W c 6 t)
  Φ _ := Pipeline.scopedRest spec0 c
  q := halves
  owed _ := (K (F := F)).Otc c 0
  recorded _ := seen (F := F) 0 c

/-- The second `_mlp` call's values. -/
def dat2 (c : Dev nD) : Dat τ (Elt F) (HIx 2) ℕ UU ℕ cfg2 c where
  A w := W 1 c (Pipeline.arrRef spec2 w)
  after w t := match w with
    | ⟨0, _⟩ => blk2 W c 0 t
    | ⟨1, _⟩ => blk2 W c 1 t
    | ⟨2, _⟩ => blk2 W c 2 t
    | ⟨3, _⟩ => blk2 W c 3 t
    | ⟨4, _⟩ => blk2 W c 4 t
    | ⟨5, _⟩ => blk2 W c 5 t
    | ⟨6, _⟩ => blk2 W c 6 t
    | ⟨7, _⟩ => both (blk2 W c 0 t) (blk2 W c 1 t) (blk2 W c 2 t) (blk2 W c 3 t) (blk2 W c 4 t) (blk2 W c 5 t) (blk2 W c 6 t)
  Φ _ := Pipeline.scopedRest spec2 c
  q := halves
  owed _ := (K (F := F)).Otc c 1
  recorded _ := seen (F := F) 1 c

/-- The `_combine` call's values. -/
def dat4 (c : Dev nD) : Dat τ (Elt F) (HIx 2) ℕ UU ℕ cfg4 c where
  A w := W 2 c (Pipeline.arrRef spec4 w)
  after w t := match w with
    | ⟨0, _⟩ => blk4 W c 0 t
    | ⟨1, _⟩ => blk4 W c 1 t
    | ⟨2, _⟩ => joined (blk4 W c 0 t) (blk4 W c 1 t)
  Φ _ := Pipeline.scopedRest spec4 c
  q _ := fullShare
  owed _ := (K (F := F)).Otc c 2
  recorded _ := seen (F := F) 2 c

/-- The three calls' values together. -/
def pdats : (p : Fin 3) → (c : Dev nD) → Dat τ (Elt F) (HIx 2) ℕ UU ℕ (Pipeline.pin (pcfgs (F := F)) adm p) c
  | ⟨0, _⟩ => fun c => dat0 W c
  | ⟨1, _⟩ => fun c => dat2 W c
  | ⟨2, _⟩ => fun c => dat4 W c

/-! ## The bodies at a point -/

/-- The call's body, at each point, leaves what its values say. -/
theorem body0 (c : Dev nD) : BodyObligation (dat0 W c) (defs₀ (F := F)) 𝒱₀ none Set.univ := fun t => by
  have h0 := (dat0 W c).before_in_eq_fetched 0 rfl (fun _ => rfl) (fun _ _ _ => rfl) (fun _ => rfl) t
  have h1 := (dat0 W c).before_in_eq_fetched 1 rfl (fun _ => rfl) (fun _ _ _ => rfl) (fun _ => rfl) t
  have h2 := (dat0 W c).before_in_eq_fetched 2 rfl (fun _ => rfl) (fun _ _ _ => rfl) (fun _ => rfl) t
  have h3 := (dat0 W c).before_in_eq_fetched 3 rfl (fun _ => rfl) (fun _ _ _ => rfl) (fun _ => rfl) t
  have h4 := (dat0 W c).before_in_eq_fetched 4 rfl (fun _ => rfl) (fun _ _ _ => rfl) (fun _ => rfl) t
  have h5 := (dat0 W c).before_in_eq_fetched 5 rfl (fun _ => rfl) (fun _ _ _ => rfl) (fun _ => rfl) t
  have h6 := (dat0 W c).before_in_eq_fetched 6 rfl (fun _ => rfl) (fun _ _ _ => rfl) (fun _ => rfl) t
  rw [bigSep_W0, bigSep_W0]
  rw [show (dat0 W c).Φ t.succ = (dat0 W c).Φ t.castSucc from rfl,
    show (dat0 W c).owesAt none t.succ = (dat0 W c).owesAt none t.castSucc from rfl]
  simp only [h0, h1, h2, h3, h4, h5, h6]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (mlp0 𝒱₀ c none (st0_0 t) _ (st0_1 t) _ (st0_2 t) _ (st0_3 t) _ (st0_4 t) _ (st0_5 t) _ (st0_6 t) _ (st0_7 t) _
    (blk0 W c 0 t) (blk0 W c 1 t) (blk0 W c 2 t) (blk0 W c 3 t) (blk0 W c 4 t) (blk0 W c 5 t) (blk0 W c 6 t) (grid0.coords t) _)
  unfold ins
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iintro ⟨⟨H0, H1, H2, H3, H4, H5, H6⟩, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The call's body, at each point, leaves what its values say. -/
theorem body2 (c : Dev nD) : BodyObligation (dat2 W c) (defs₀ (F := F)) 𝒱₀ none Set.univ := fun t => by
  have h0 := (dat2 W c).before_in_eq_fetched 0 rfl (fun _ => rfl) (fun _ _ _ => rfl) (fun _ => rfl) t
  have h1 := (dat2 W c).before_in_eq_fetched 1 rfl (fun _ => rfl) (fun _ _ _ => rfl) (fun _ => rfl) t
  have h2 := (dat2 W c).before_in_eq_fetched 2 rfl (fun _ => rfl) (fun _ _ _ => rfl) (fun _ => rfl) t
  have h3 := (dat2 W c).before_in_eq_fetched 3 rfl (fun _ => rfl) (fun _ _ _ => rfl) (fun _ => rfl) t
  have h4 := (dat2 W c).before_in_eq_fetched 4 rfl (fun _ => rfl) (fun _ _ _ => rfl) (fun _ => rfl) t
  have h5 := (dat2 W c).before_in_eq_fetched 5 rfl (fun _ => rfl) (fun _ _ _ => rfl) (fun _ => rfl) t
  have h6 := (dat2 W c).before_in_eq_fetched 6 rfl (fun _ => rfl) (fun _ _ _ => rfl) (fun _ => rfl) t
  rw [bigSep_W2, bigSep_W2]
  rw [show (dat2 W c).Φ t.succ = (dat2 W c).Φ t.castSucc from rfl,
    show (dat2 W c).owesAt none t.succ = (dat2 W c).owesAt none t.castSucc from rfl]
  simp only [h0, h1, h2, h3, h4, h5, h6]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (mlp2 𝒱₀ c none (st2_0 t) _ (st2_1 t) _ (st2_2 t) _ (st2_3 t) _ (st2_4 t) _ (st2_5 t) _ (st2_6 t) _ (st2_7 t) _
    (blk2 W c 0 t) (blk2 W c 1 t) (blk2 W c 2 t) (blk2 W c 3 t) (blk2 W c 4 t) (blk2 W c 5 t) (blk2 W c 6 t) (grid2.coords t) _)
  unfold ins
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iintro ⟨⟨H0, H1, H2, H3, H4, H5, H6⟩, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The call's body, at each point, leaves what its values say. -/
theorem body4 (c : Dev nD) : BodyObligation (dat4 W c) (defs₀ (F := F)) 𝒱₀ none Set.univ := fun t => by
  have h0 := (dat4 W c).before_in_eq_fetched 0 rfl (fun _ => rfl) (fun _ _ _ => rfl) (fun _ => rfl) t
  have h1 := (dat4 W c).before_in_eq_fetched 1 rfl (fun _ => rfl) (fun _ _ _ => rfl) (fun _ => rfl) t
  rw [bigSep_W4, bigSep_W4]
  rw [show (dat4 W c).Φ t.succ = (dat4 W c).Φ t.castSucc from rfl,
    show (dat4 W c).owesAt none t.succ = (dat4 W c).owesAt none t.castSucc from rfl]
  simp only [h0, h1]
  iintro ⟨HΦ, Howes, ⟨%d0, H0⟩, ⟨%d1, H1⟩, ⟨%d2, H2⟩⟩
  iapply (combine 𝒱₀ c none (win4_0.stage (cfg4.slots t 0)) (hstage4_0 0) (win4_1.stage (cfg4.slots t 1)) (hstage4_1 0) (win4_2.stage (cfg4.slots t 2)) (hstage4_2 0)
    (blk4 W c 0 t) (blk4 W c 1 t) _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The regions -/

/-- The launch's side conditions, call by call. -/
theorem kit : (p : Fin 3) → Pipeline.LaunchFacts₀ (nD := nD) (τ := τ) cfgs p
  | ⟨0, _⟩ => launch₀0
  | ⟨1, _⟩ => launch₀2
  | ⟨2, _⟩ => launch4.to₀

/-- The bodies' obligations, call by call. -/
theorem bodies (c : Dev nD) : (p : Fin 3) → Pipeline.BodyObligationLoose (pdats W p c) (defs₀ (F := F)) 𝒱₀ none Set.univ
  | ⟨0, _⟩ => (body0 W c).loose
  | ⟨1, _⟩ => (body2 W c).loose
  | ⟨2, _⟩ => (body4 W c).loose

/-- At every point a region owes the starts of the SparseCore calls still to come, -/
theorem owed_eq (c : Dev nD) : (p : Fin 3) → (t : _) → (pdats W p c).owed t = (K (F := F)).Otc c p.val
  | ⟨0, _⟩, _ => rfl
  | ⟨1, _⟩, _ => rfl
  | ⟨2, _⟩, _ => rfl

/-- The waits recorded at a point are the call's. -/
theorem recorded_eq (c : Dev nD) : (p : Fin 3) → (t : _) → (pdats W p c).recorded t = seen (F := F) p c
  | ⟨0, _⟩, _ => rfl
  | ⟨1, _⟩, _ => rfl
  | ⟨2, _⟩, _ => rfl

/-- What the call keeps from point to point is the rest of its scoped state, -/
theorem inv_eq0 (c : Dev nD) (t : Fin (cfg0.N + 1)) : (dat0 W c).Φ t = Pipeline.scopedRest spec0 c := by exact rfl
/-- What the call keeps from point to point is the rest of its scoped state, -/
theorem inv_eq2 (c : Dev nD) (t : Fin (cfg2.N + 1)) : (dat2 W c).Φ t = Pipeline.scopedRest spec2 c := by exact rfl
/-- What the call keeps from point to point is the rest of its scoped state, -/
theorem inv_eq4 (c : Dev nD) (t : Fin (cfg4.N + 1)) : (dat4 W c).Φ t = Pipeline.scopedRest spec4 c := by exact rfl

/-- and so for each of the three calls. -/
theorem inv_eq (c : Dev nD) (p : Fin 3) (t : _) : (pdats W p c).Φ t = Pipeline.scopedRest (Pipeline.pin (pcfgs (F := F)) adm p).spec c := by
  obtain ⟨_ | _ | _ | n, h⟩ := p
  · exact inv_eq0 W c t
  · exact inv_eq2 W c t
  · exact inv_eq4 W c t
  · omega

/-- and none of them at the pipelines' own index. -/
theorem Otc_none (c : Dev nD) (n : ℕ) (g : GSem nD τ sig) : (K (F := F)).Otc c n g none = 0 := by
  by_contra h
  have := (K (F := F)).lev_of_Otc_pos (Nat.pos_of_ne_zero h)
  exact absurd this (Nat.not_succ_le_zero _)

/-- What the TensorCore holds of its debts between calls. -/
def debt (n : ℕ) (c : Dev nD) : sProp 𝕄 :=
  iprop(∃ X, ⌜(K (F := F)).WBelow (T c) X (8 * n)⌝ ∗ owes (T c : Thread nD τ) ((K (F := F)).Otc c n) X)

/-- A region over its own arrays: entered with them at `W`, left with them as the pipeline leaves them. -/
def seg (p : Fin 3) : Pipeline.RegionSeg (pcfgs (F := F)) adm (pdats W) none defs₀ 𝒱₀ (K (F := F)).L (K (F := F)).lev p where
  win := (kit p).win
  block_pos := (kit p).block_pos
  stage_whole := (kit p).stage_whole
  K := PEmpty
  osem k := k.elim
  ho := Pipeline.OwnSemFacts.none _
  hbody c := bodies W c p
  hwaits c := Pipeline.cellsWaits_intro _ _ _ _ _ fun w s t => by
    rw [owed_eq W c p t]
    exact (K (F := F)).mayWait_none _ (Otc_none c _)
  pre c := iprop((pdats W p c).arrays ((pdats W p c).arrAt · 0) ∗ debt p.val c)
  post c := iprop((pdats W p c).arrays ((pdats W p c).arrAt · (Pipeline.pin (pcfgs (F := F)) adm p).N) ∗ debt p.val c)
  X _ := BI.emp
  Y _ := BI.emp
  Z _ := BI.emp
  hentry c := by
    rw [Pipeline.ownSems0_none, Pipeline.prefHeld_of_none _ rfl]
    unfold debt
    iintro ⟨⟨Ha, %X, %hX, HO⟩, -, -⟩
    imodintro
    isplitl [Ha]; · iexact Ha
    isplitr; · iempintro
    isplitl [HO]
    · unfold Pipeline.Dat.owesAt Pipeline.owesWithin Pipeline.Dat.bound
      rw [owed_eq W c p 0, recorded_eq W c p 0]
      iexists X; isplitr; · ipureintro; exact fun q hq => Or.inl (hX q hq)
      iexact HO
    isplitr <;> iempintro
  hin c := by
    rw [inv_eq W c p 0]
    iintro ⟨-, -, Hr⟩; iexact Hr
  hout c := by
    rw [Pipeline.ownSems0_none, inv_eq W c p (Fin.last _)]
    iintro Hr
    isplitr; · iempintro
    isplitr; · iempintro
    iexact Hr
  hexit c := by
    unfold Pipeline.Dat.owesAt Pipeline.owesWithin Pipeline.Dat.bound debt
    rw [owed_eq W c p (Fin.last _), recorded_eq W c p (Fin.last _)]
    iintro ⟨Ha, ⟨%X, %hX, HO⟩, -, -⟩
    imodintro
    isplitl [Ha]; · iexact Ha
    iexists X; isplitr
    · ipureintro
      intro q hq
      rcases hX hq with h | ⟨w, s, h⟩
      · exact h
      · rw [h]; exact Nat.zero_le _
    iexact HO

end Cert.KernelIdeal
-- ==== Proof.ObligIdealA.lean ====
/-
  SparseCore call 1 as the launch asks for it: what a tile is handed, what it hands back, and that its run takes the one
  to the other.
-/
module

public import proofs.«01_k».proof.Proof.TileIdealA
public import proofs.«01_k».proof.Proof.RegionsIdeal
public import proofs.«01_k».proof.Proof.Shares

@[expose] public section

noncomputable section

namespace Cert.KernelIdeal

open Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (T S V)
open Idealize.ShloMosaic.SparseCore.Cfg (HIx ownRefs ownCells ownBufs ownSems0 mem_ownCells)
open Cert.Proof Cert.Proof.Block

variable {F : FTy → Type} [FloatOps F]

local notation "𝕄" => MT nD τ sig (HIx 2) (Elt F) ℕ UU ℕ

/-- An array of the program on device `d`. -/
abbrev hbm (d : Dev nD) (b : Ref sig .tc) : Loc nD τ sig := (SparseCore.T d : Thread nD τ).loc b

/-- The grid point of tile `s` of SparseCore `c`. -/
def at1 (c : Fin 2) (s : Fin 16) : grid1.Coords := fun | 0 => c | 1 => s | ⟨_ + 2, h⟩ => absurd h (Nat.not_lt.2 (Nat.le_add_left _ _))

/-- The whole arrays and buffers as the kernel names them. -/
abbrev hV1 : Memref sig .scVector .hbm S32768x128 .f32 := Memref.whole main_v17_scv
/-- The first call's result, as a tile names it. -/
abbrev oV1 : Memref sig .scVector .hbm S32x16x64 .f32 := Memref.whole main_v18_scv
/-- The segments' starts, as a tile names them. -/
abbrev stV : Memref sig .scVector .hbm S16 .i32 := Memref.whole main_v14_scv
/-- The segments' ends, as a tile names them. -/
abbrev enV : Memref sig .scVector .hbm S16 .i32 := Memref.whole main_v16_scv

/-- The row of the result a tile writes, as elements of the whole array. -/
def rowSet1 (L : grid1.Coords) : Finset S32x16x64.Idx := (row1 L oV1).view.set

/-- Where a tile's row of the result begins. -/
theorem wid1 (c : Fin 2) (s : Fin 16) : k1_off1027 (at1 c s) = ![s.val * 2 + c.val, 0, 0] := by
  decide +revert

/-- Such a row's element behind its leading axis. -/
def behind (p : S16x64.Idx) : S1x16x64.Idx := fun | 0 => (0 : Fin 1) | 1 => p 0 | 2 => p 1 | ⟨_ + 3, h⟩ => absurd h (Nat.not_lt.2 (Nat.le_add_left _ _))

/-- Dropping the leading axis of one keeps an element's place. -/
theorem reshape_behind (p : S16x64.Idx) : Shape.reshapeEquiv squeezes_S1x16x64_S16x64.numel_eq p = behind p := by
  refine Shape.reshapeEquiv_eq_of_rowMajor _ ?_
  rw [Shape.rowMajor_val_two, Shape.rowMajor_val_three]
  show ((0 * 16 + (p 0).val) * 64 + (p 1).val) = (p 0).val * 64 + (p 1).val
  omega

/-- Where a tile's row lies in the whole array. -/
def place (c : Fin 2) (s : Fin 16) (p : S16x64.Idx) : S32x16x64.Idx :=
  fun | 0 => (⟨s.val * 2 + c.val, by omega⟩ : Fin 32) | 1 => p 0 | 2 => p 1 | ⟨_ + 3, h⟩ => absurd h (Nat.not_lt.2 (Nat.le_add_left _ _))

/-- An element of a tile's row lies at its place in the whole array. -/
theorem emb1 (c : Fin 2) (s : Fin 16) (p : S16x64.Idx) : (row1 (at1 c s) oV1).view.emb p = place c s p := by
  show (Rect.unit (s := S32x16x64) (k1_off1027 (at1 c s)) S1x16x64.size (k1_off1027_inb (at1 c s))).emb
    (Shape.reshapeEquiv squeezes_S1x16x64_S16x64.numel_eq p) = _
  rw [reshape_behind]
  funext a
  refine Fin.ext ?_
  rw [Rect.emb_apply]
  show k1_off1027 (at1 c s) a + 1 * (behind p a).val = _
  rw [wid1]
  match a with
  | 0 => rfl
  | 1 => show 0 + 1 * (p 0).val = (p 0).val; omega
  | 2 => show 0 + 1 * (p 1).val = (p 1).val; omega

/-- A tile's row is the elements whose first index is the tile's number. -/
theorem mem_row1 (c : Fin 2) (s : Fin 16) (p : S32x16x64.Idx) : p ∈ rowSet1 (at1 c s) ↔ (p 0).val = s.val * 2 + c.val := by
  unfold rowSet1
  rw [show (row1 (at1 c s) oV1).view.set = Finset.univ.map (row1 (at1 c s) oV1).view.emb from rfl, Finset.mem_map]
  constructor
  · rintro ⟨q, -, rfl⟩; rw [emb1]; rfl
  · intro h
    refine ⟨fun | 0 => p 1 | 1 => p 2 | ⟨_ + 2, h⟩ => absurd h (Nat.not_lt.2 (Nat.le_add_left _ _)), Finset.mem_univ _, ?_⟩
    rw [emb1]
    funext a
    match a with
    | 0 => exact Fin.ext h.symm
    | 1 => rfl
    | 2 => rfl

/-- Different tiles' rows do not meet. -/
theorem rows1_disjoint : ∀ x ∈ (Finset.univ : Finset (Fin 2 × Fin 16)), ∀ y ∈ (Finset.univ : Finset (Fin 2 × Fin 16)), x ≠ y →
    Disjoint (rowSet1 (at1 x.1 x.2)) (rowSet1 (at1 y.1 y.2)) := by
  rintro ⟨c, s⟩ - ⟨c', s'⟩ - h
  refine Finset.disjoint_left.mpr fun p h1 h2 => h ?_
  rw [mem_row1] at h1 h2
  dsimp only at h1 h2
  have : c = c' ∧ s = s' := by constructor <;> apply Fin.ext <;> omega
  rw [this.1, this.2]

/-- The tiles' rows make up the array. -/
theorem rows1_cover : (Finset.univ : Finset (Fin 2 × Fin 16)).biUnion (fun x => rowSet1 (at1 x.1 x.2)) = Finset.univ := by
  refine Finset.eq_univ_of_forall fun p => Finset.mem_biUnion.mpr ?_
  have hp : (p 0).val < 32 := (p 0).isLt
  refine ⟨(⟨(p 0).val % 2, by omega⟩, ⟨(p 0).val / 2, by omega⟩), Finset.mem_univ _, ?_⟩
  rw [mem_row1]; show (p 0).val = (p 0).val / 2 * 2 + (p 0).val % 2; omega

/-- The array held in full is the tiles' rows held one by one. -/
theorem rows1 (d : Dev nD) (f : Buf (Elt F) (hbm d main_v18)) :
    (hbm d main_v18 ↦{fullShare} f : sProp 𝕄)
      = bigSep Finset.univ fun c : Fin 2 => bigSep Finset.univ fun s : Fin 16 => hbm d main_v18 ↦[rowSet1 (at1 c s)]{fullShare} f := by
  rw [← bigSep_univ_prod (fun x : Fin 2 × Fin 16 => (hbm d main_v18 ↦[rowSet1 (at1 x.1 x.2)]{fullShare} f : sProp 𝕄)),
    ← pointsTo_biUnion Finset.univ (ℓ := hbm d main_v18) (fun x : Fin 2 × Fin 16 => rowSet1 (at1 x.1 x.2)) rows1_disjoint]
  exact congrArg (fun S => (hbm d main_v18 ↦[S]{fullShare} f : sProp 𝕄)) rows1_cover.symm

/-! ## What a tile computes -/

section

variable (h : FVec F S32768x128 .f32) (v w : IVec S16 32)

/-- The four chunks of the features that a tile takes. -/
def chunk1 (L : grid1.Coords) (off : Fin 2 → ℕ) (hoff : ∀ a, off a + S256x128.size a ≤ S32768x128.size a) : FVec F S256x128 .f32 :=
  (hV1.slice (Rect.unit (s := S32768x128) off S256x128.size hoff) (fun _ => rfl)).view.read (Elt F) h

/-- A tile's row, -/
def tileOut1 (L : grid1.Coords) : FVec F S16x64 .f32 :=
  tileVal (base1 L) v w (chunk1 h L (k1_off1 L 0#32) (k1_off1_inb L 0)) (chunk1 h L (k1_off1 L 256#32) (k1_off1_inb L 1))
    (chunk1 h L (k1_off258 L 512#32) (k1_off258_inb L 1)) (chunk1 h L (k1_off258 L 768#32) (k1_off258_inb L 2))

/-- and all rows together. -/
def out1 : FVec F S32x16x64 .f32 := fun p =>
  tileOut1 h v w (at1 ⟨(p 0).val % 2, Nat.mod_lt _ (by decide)⟩ ⟨(p 0).val / 2, by have h : (p 0).val < 32 := (p 0).isLt; omega⟩)
    (fun | 0 => p 1 | 1 => p 2 | ⟨_ + 2, h⟩ => absurd h (Nat.not_lt.2 (Nat.le_add_left _ _)))

/-- A tile's row of the call's result is what the tile leaves. -/
theorem out1_row (c : Fin 2) (s : Fin 16) : (row1 (at1 c s) oV1).view.read (Elt F) (out1 h v w) = tileOut1 h v w (at1 c s) := by
  funext p
  show out1 h v w ((row1 (at1 c s) oV1).view.emb p) = _
  rw [emb1]
  have hc : (⟨(s.val * 2 + c.val) % 2, Nat.mod_lt _ (by decide)⟩ : Fin 2) = c := Fin.ext (by show (s.val * 2 + c.val) % 2 = c.val; omega)
  have hs : (⟨(s.val * 2 + c.val) / 2, by omega⟩ : Fin 16) = s := Fin.ext (by show (s.val * 2 + c.val) / 2 = s.val; omega)
  show tileOut1 h v w (at1 ⟨(s.val * 2 + c.val) % 2, _⟩ ⟨(s.val * 2 + c.val) / 2, _⟩) _ = _
  rw [hc, hs]
  refine congrArg _ (funext fun a => ?_)
  match a with
  | 0 => rfl
  | 1 => rfl

end

/-! ## What a tile is handed and hands back -/

section

variable (h : Dev nD → FVec F S32768x128 .f32) (v w : Dev nD → IVec S16 32)

/-- What a tile is given: its row of the result, and shares of what all tiles read. -/
def go1 (d : Dev nD) (c : Fin 2) (s : Fin 16) : sProp 𝕄 :=
  iprop((∃ f, hbm d main_v18 ↦[rowSet1 (at1 c s)]{fullShare} f) ∗ (hbm d main_v17 ↦{tileShare fullShare c s} h d)
    ∗ (hbm d main_v14 ↦{tileShare fullShare.left c s} v d) ∗ (hbm d main_v16 ↦{tileShare fullShare.left c s} w d))

/-- What a tile gives back: its row, filled. -/
def td1 (d : Dev nD) (c : Fin 2) (s : Fin 16) : sProp 𝕄 := iprop(hbm d main_v18 ↦[rowSet1 (at1 c s)]{fullShare} out1 (h d) (v d) (w d))

/-- What a tile is given can be stored in the hand-over, -/
instance go1_storable (d : Dev nD) (c : Fin 2) (s : Fin 16) : BI.Storable (upEmb : UEmb _ 𝕄) (go1 h v w d c s) := by unfold go1; infer_instance
/-- and so can what it gives back. -/
instance td1_storable (d : Dev nD) (c : Fin 2) (s : Fin 16) : BI.Storable (upEmb : UEmb _ 𝕄) (td1 h v w d c s) := by unfold td1; infer_instance

/-- A tile's thread. -/
abbrev vt (d : Dev nD) (c : Fin 2) (s : Fin 16) : Thread nD τ := thr1 d (at1 c s)

/-- The call's buffers and semaphores, among a tile's own. -/
theorem bufs1 (d : Dev nD) (c : Fin 2) (s : Fin 16) :
    (ownBufs (vt d c s) : sProp 𝕄)
      = iprop((∃ f, (vt d c s).loc cc1_scratch0 ↦{fullShare} f) ∗ (∃ f, (vt d c s).loc cc1_scratch1 ↦{fullShare} f)
          ∗ (∃ f, (vt d c s).loc cc1_scratch2 ↦{fullShare} f) ∗ (∃ f, (vt d c s).loc cc1_scratch3 ↦{fullShare} f)
          ∗ (∃ f, (vt d c s).loc cc1_scratch4 ↦{fullShare} f)
          ∗ bigSep ((((((ownRefs (τ := τ) (vt d c s).2).erase ((vt d c s).2.devRef cc1_scratch0)).erase ((vt d c s).2.devRef cc1_scratch1)).erase
              ((vt d c s).2.devRef cc1_scratch2)).erase ((vt d c s).2.devRef cc1_scratch3)).erase ((vt d c s).2.devRef cc1_scratch4))
              fun b => iprop(∃ f, ((d, b) : Loc nD τ sig) ↦{fullShare} f)) := by
  unfold ownBufs
  refine take5 (List.map (fun r : Ref sig .scVector => (vt d c s).2.devRef r) [cc1_scratch0, cc1_scratch1, cc1_scratch2, cc1_scratch3, cc1_scratch4])
    _ _ _ _ _ rfl (List.Nodup.map (fun _ _ e => Proc.devRef_injective (vt d c s).2 e) (by decide)) fun x hx => ?_
  obtain ⟨r, hr, rfl⟩ := List.mem_map.mp hx
  refine SparseCore.Cfg.mem_ownRefs_of_owner ?_
  simp only [List.mem_cons, List.not_mem_nil, or_false] at hr
  rcases hr with rfl | rfl | rfl | rfl | rfl <;> rfl

/-- The call's semaphores among a tile's own, at zero, and the rest. -/
theorem sems1 (d : Dev nD) (c : Fin 2) (s : Fin 16) :
    (ownSems0 (vt d c s) : sProp 𝕄)
      = iprop(semVal (vt d c s, .dma cc1_scoped0.sem) 0 ∗ semVal (vt d c s, .dma cc1_scoped1.sem) 0 ∗ semVal (vt d c s, .dma cc1_scoped2.sem) 0
          ∗ semVal (vt d c s, .dma cc1_scratch5.sem) 0 ∗ semVal (vt d c s, .dma cc1_scratch6.sem) 0
          ∗ bigSep ((((((ownCells (vt d c s)).erase (vt d c s, .dma cc1_scoped0.sem)).erase (vt d c s, .dma cc1_scoped1.sem)).erase
              (vt d c s, .dma cc1_scoped2.sem)).erase (vt d c s, .dma cc1_scratch5.sem)).erase (vt d c s, .dma cc1_scratch6.sem))
              fun g => semVal g 0) := by
  unfold ownSems0
  refine take5 (List.map (fun r : SemLoc sig => ((vt d c s, r) : GSem nD τ sig))
    [.dma cc1_scoped0.sem, .dma cc1_scoped1.sem, .dma cc1_scoped2.sem, .dma cc1_scratch5.sem, .dma cc1_scratch6.sem])
    _ _ _ _ _ rfl (List.Nodup.map (fun a b e => (Prod.mk.inj e).2) (by decide)) fun x hx => ?_
  obtain ⟨r, hr, rfl⟩ := List.mem_map.mp hx
  exact mem_ownCells.mpr ⟨rfl, (show ∀ r ∈ ([.dma cc1_scoped0.sem, .dma cc1_scoped1.sem, .dma cc1_scoped2.sem, .dma cc1_scratch5.sem, .dma cc1_scratch6.sem] : List (SemLoc sig)),
    r.isScoped .scVector = true by decide) r hr⟩

/-- A tile's row, as the kernel leaves it, is its row of the whole result. -/
theorem row1_done (d : Dev nD) (c : Fin 2) (s : Fin 16) :
    (owns (vt d c s) (row1 (at1 c s) oV1) fullShare (tileOut1 (h d) (v d) (w d) (at1 c s)) : sProp 𝕄) ⊢ td1 h v w d c s := by
  show iprop(∃ f, ⌜(row1 (at1 c s) oV1).view.read (Elt F) f = tileOut1 (h d) (v d) (w d) (at1 c s)⌝ ∗ (hbm d main_v18 ↦[rowSet1 (at1 c s)]{fullShare} f)) ⊢ _
  unfold td1
  iintro ⟨%f, %hf, H⟩
  have e : (hbm d main_v18 ↦[rowSet1 (at1 c s)]{fullShare} f : sProp 𝕄) = hbm d main_v18 ↦[rowSet1 (at1 c s)]{fullShare} out1 (h d) (v d) (w d) := by
    refine pointsTo_congr fun i hi => ?_
    obtain ⟨p, -, rfl⟩ := Finset.mem_map.mp (show i ∈ Finset.univ.map (row1 (at1 c s) oV1).view.emb from hi)
    have := congrFun (hf.trans (out1_row (h d) (v d) (w d) c s).symm) p
    exact this
  ihave H' := (Entails.of_eq e) $$ H
  iexact H'

/-- The tile's row, as the body's copy holds it. -/
theorem row1_start (d : Dev nD) (c : Fin 2) (s : Fin 16) (f : Buf (Elt F) (hbm d main_v18)) :
    (hbm d main_v18 ↦[rowSet1 (at1 c s)]{fullShare} f : sProp 𝕄)
      ⊢ owns (vt d c s) (row1 (at1 c s) oV1) fullShare ((row1 (at1 c s) oV1).view.read (Elt F) f) := by
  unfold rowSet1
  exact owns_intro (vt d c s) (row1 (at1 c s) oV1) fullShare f

/-- A chunk of the features, as the body's copy holds it. -/
theorem chunk1_start (d : Dev nD) (c : Fin 2) (s : Fin 16) (q : PosShare TreeShare) (off : Fin 2 → ℕ) (hoff : ∀ a, off a + S256x128.size a ≤ S32768x128.size a) :
    (hbm d main_v17 ↦{q} h d : sProp 𝕄)
      ⊢ owns (vt d c s) (hV1.slice (Rect.unit (s := S32768x128) off S256x128.size hoff) (fun _ => rfl)) q (chunk1 (h d) (at1 c s) off hoff) := by
  unfold chunk1
  have e := slice_of_whole (Val := Elt F) (Ix := HIx 2) (Name := ℕ) (U := UU) (Lvl := ℕ) (vt d c s) (hV1.slice (Rect.unit (s := S32768x128) off S256x128.size hoff) (fun _ => rfl)) q (h d)
  exact e

/-- A whole buffer, as the body holds it, -/
theorem whole_start (d : Dev nD) (c : Fin 2) (s : Fin 16) (q : PosShare TreeShare) (b : Ref sig .scVector) (f : b.ty.Contents (Elt F)) :
    ((vt d c s).loc b ↦{q} f : sProp 𝕄) ⊢ owns (vt d c s) (Memref.whole b) q f := Entails.of_eq (owns_whole (vt d c s) b q f).symm
/-- and back. -/
theorem whole_end (d : Dev nD) (c : Fin 2) (s : Fin 16) (q : PosShare TreeShare) (b : Ref sig .scVector) (f : b.ty.Contents (Elt F)) :
    owns (vt d c s) (Memref.whole b) q f ⊢ ((vt d c s).loc b ↦{q} f : sProp 𝕄) := Entails.of_eq (owns_whole (vt d c s) b q f)

set_option maxHeartbeats 1000000 in
/-- A tile's run of the call. -/
theorem tile_body1 (d : Dev nD) (c : Fin 2) (s : Fin 16) (O : CellTallies nD τ sig (HIx 2)) (W : Waits sig (HIx 2)) (hO : ∀ g, O g none = 0) :
    iprop(levAts (K (F := F)).L (K (F := F)).lev ∗ emp ∗ go1 h v w d c s ∗ ownBufs (vt d c s) ∗ ownSems0 (vt d c s) ∗ owes (vt d c s) O W)
      ⊢ wp frame (wpE (defs₀ (F := F)) 𝒱₀ (vt d c s) none) Set.univ
          (cc1__segmax_body (at1 c s) hV1 (Memref.isWhole_whole _) stV (Memref.isWhole_whole _) enV (Memref.isWhole_whole _) oV1 (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) cc1_scratch5 cc1_scratch6 cc1_scoped0 cc1_scoped1 cc1_scoped2)
          fun _ => iprop(td1 h v w d c s ∗ ownBufs (vt d c s) ∗ ownSems0 (vt d c s) ∗ ∃ W', ⌜∀ p ∈ W', p ∈ W ∨ p.2 = none⌝ ∗ owes (vt d c s) O W') := by
  rw [bufs1, sems1]
  unfold go1
  iintro ⟨#Hlv, -, ⟨⟨%fo, Ho⟩, Hh, Hv, Hw⟩, ⟨⟨%f0, B0⟩, ⟨%f1, B1⟩, ⟨%f2, B2⟩, ⟨%f3, B3⟩, ⟨%f4, B4⟩, HB⟩, ⟨S0, S1, S2, S5, S6, HS⟩, HO⟩
  ihave Hmw := ((K (F := F)).mayWaits_none (thr := vt d c s) hO) $$ Hlv
  ihave H4 := (four _ _) $$ Hh
  icases H4 with ⟨C0, C1, C2, C3⟩
  ihave C0 := (chunk1_start h d c s _ (k1_off1 (at1 c s) 0#32) (k1_off1_inb (at1 c s) 0)) $$ C0
  ihave C1 := (chunk1_start h d c s _ (k1_off1 (at1 c s) 256#32) (k1_off1_inb (at1 c s) 1)) $$ C1
  ihave C2 := (chunk1_start h d c s _ (k1_off258 (at1 c s) 512#32) (k1_off258_inb (at1 c s) 1)) $$ C2
  ihave C3 := (chunk1_start h d c s _ (k1_off258 (at1 c s) 768#32) (k1_off258_inb (at1 c s) 2)) $$ C3
  ihave Ho := (row1_start d c s fo) $$ Ho
  ihave Hv := (whole_start d c s _ main_v14_scv (v d)) $$ Hv
  ihave Hw := (whole_start d c s _ main_v16_scv (w d)) $$ Hw
  ihave B0 := (whole_start d c s _ cc1_scratch0 f0) $$ B0
  ihave B1 := (whole_start d c s _ cc1_scratch1 f1) $$ B1
  ihave B2 := (whole_start d c s _ cc1_scratch2 f2) $$ B2
  ihave B3 := (whole_start d c s _ cc1_scratch3 f3) $$ B3
  ihave B4 := (whole_start d c s _ cc1_scratch4 f4) $$ B4
  iapply wp_wand_r
  isplitr [HB HS]
  · iapply (tile1 d 𝒱₀ none (defs₀ (F := F)) none O W (at1 c s) hV1 (Memref.isWhole_whole _) stV (Memref.isWhole_whole _) enV (Memref.isWhole_whole _) oV1 (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) cc1_scratch5 cc1_scratch6 cc1_scoped0 cc1_scoped1 cc1_scoped2
            (Q := fun _ => iprop(owns (vt d c s) (Memref.whole cc1_scratch2) fullShare (tileOut1 (h d) (v d) (w d) (at1 c s))
              ∗ owns (vt d c s) (row1 (at1 c s) oV1) fullShare (tileOut1 (h d) (v d) (w d) (at1 c s))
              ∗ semVal (vt d c s, .dma cc1_scoped2.sem) 0 ∗ Transfers.MayWaits (vt d c s) none O ∗ owing none O W (vt d c s)
              ∗ ((owns (vt d c s) stV (tileShare fullShare.left c s) (v d) ∗ owns (vt d c s) enV (tileShare fullShare.left c s) (w d)
                    ∗ semVal (vt d c s, .dma cc1_scoped0.sem) 0 ∗ semVal (vt d c s, .dma cc1_scoped1.sem) 0)
                  ∗ owns (vt d c s) (Memref.whole cc1_scratch3) fullShare (v d) ∗ owns (vt d c s) (Memref.whole cc1_scratch4) fullShare (w d))
              ∗ semVal (vt d c s, .dma cc1_scratch5.sem) 0
              ∗ owns (vt d c s) (Memref.whole cc1_scratch0) fullShare (chunk1 (h d) (at1 c s) (k1_off258 (at1 c s) 512#32) (k1_off258_inb (at1 c s) 1))
              ∗ owns (vt d c s) (Memref.whole cc1_scratch1) fullShare (chunk1 (h d) (at1 c s) (k1_off258 (at1 c s) 768#32) (k1_off258_inb (at1 c s) 2))
              ∗ semVal (vt d c s, .dma cc1_scratch6.sem) 0))
            (BI.Entails.refl _))
    isplitl [Hv]; · iexact Hv
    isplitl [B3]; · iexact B3
    isplitl [S0]; · iexact S0
    isplitl [Hmw]; · iexact Hmw
    isplitl [HO]
    · unfold owing; iexists W; isplitr
      · ipureintro; exact fun p hp => .inl hp
      iexact HO
    isplitl [Hw]; · iexact Hw
    isplitl [B4]; · iexact B4
    isplitl [S1]; · iexact S1
    isplitl [B2]; · iexact B2
    isplitl [B0]; · iexact B0
    isplitl [B1]; · iexact B1
    isplitl [C0]; · iexact C0
    isplitl [S5]; · iexact S5
    isplitl [C1]; · iexact C1
    isplitl [S6]; · iexact S6
    isplitl [C2]; · iexact C2
    isplitl [C3]; · iexact C3
    isplitl [Ho]; · iexact Ho
    iexact S2
  iintro %_ ⟨B2, Ho, S2, -, HO, ⟨⟨-, -, S0, S1⟩, B3, B4⟩, S5, B0, B1, S6⟩
  ihave Ho := (row1_done h v w d c s) $$ Ho
  isplitl [Ho]; · iexact Ho
  ihave B0 := (whole_end d c s _ cc1_scratch0 _) $$ B0
  ihave B1 := (whole_end d c s _ cc1_scratch1 _) $$ B1
  ihave B2 := (whole_end d c s _ cc1_scratch2 _) $$ B2
  ihave B3 := (whole_end d c s _ cc1_scratch3 _) $$ B3
  ihave B4 := (whole_end d c s _ cc1_scratch4 _) $$ B4
  isplitl [B0 B1 B2 B3 B4 HB]
  · isplitl [B0]; · iexists _; iexact B0
    isplitl [B1]; · iexists _; iexact B1
    isplitl [B2]; · iexists _; iexact B2
    isplitl [B3]; · iexists _; iexact B3
    isplitl [B4]; · iexists _; iexact B4
    iexact HB
  isplitl [S0 S1 S2 S5 S6 HS]
  · isplitl [S0]; · iexact S0
    isplitl [S1]; · iexact S1
    isplitl [S2]; · iexact S2
    isplitl [S5]; · iexact S5
    isplitl [S6]; · iexact S6
    iexact HS
  unfold owing
  iexact HO

end

end Cert.KernelIdeal

end
-- ==== Proof.ObligIdealB.lean ====
/-
  SparseCore call 3 as the launch asks for it: what a tile is handed, what it hands back, and that its run takes the one
  to the other.
-/
module

public import proofs.«01_k».proof.Proof.TileIdealB
public import proofs.«01_k».proof.Proof.ObligIdealA

@[expose] public section

noncomputable section

namespace Cert.KernelIdeal

open Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (T S V)
open Idealize.ShloMosaic.SparseCore.Cfg (HIx ownRefs ownCells ownBufs ownSems0 mem_ownCells)
open Cert.Proof Cert.Proof.Block

variable {F : FTy → Type} [FloatOps F]

local notation "𝕄" => MT nD τ sig (HIx 2) (Elt F) ℕ UU ℕ

/-- The grid point of tile `s` of SparseCore `c`. -/
def at3 (c : Fin 2) (s : Fin 16) : grid3.Coords := fun | 0 => c | 1 => s | ⟨_ + 2, h⟩ => absurd h (Nat.not_lt.2 (Nat.le_add_left _ _))

/-- The whole arrays as the kernel names them. -/
abbrev hV3 : Memref sig .scVector .hbm S32768x128 .f32 := Memref.whole main_v19_scv
/-- The second call's result, as a tile names it. -/
abbrev oV3 : Memref sig .scVector .hbm S32x16x64 .f32 := Memref.whole main_v20_scv
/-- The row of the result a tile writes, as elements of the whole array. -/
def rowSet3 (L : grid3.Coords) : Finset S32x16x64.Idx := (row3 L oV3).view.set

/-- Where a tile's row of the result begins. -/
theorem wid3 (c : Fin 2) (s : Fin 16) : k3_off1027 (at3 c s) = ![s.val * 2 + c.val, 0, 0] := by
  decide +revert

/-- An element of a tile's row lies at its place in the whole array. -/
theorem emb3 (c : Fin 2) (s : Fin 16) (p : S16x64.Idx) : (row3 (at3 c s) oV3).view.emb p = place c s p := by
  show (Rect.unit (s := S32x16x64) (k3_off1027 (at3 c s)) S1x16x64.size (k3_off1027_inb (at3 c s))).emb
    (Shape.reshapeEquiv squeezes_S1x16x64_S16x64.numel_eq p) = _
  rw [reshape_behind]
  funext a
  refine Fin.ext ?_
  rw [Rect.emb_apply]
  show k3_off1027 (at3 c s) a + 1 * (behind p a).val = _
  rw [wid3]
  match a with
  | 0 => rfl
  | 1 => show 0 + 1 * (p 0).val = (p 0).val; omega
  | 2 => show 0 + 1 * (p 1).val = (p 1).val; omega

/-- A tile's row is the elements whose first index is the tile's number. -/
theorem mem_row3 (c : Fin 2) (s : Fin 16) (p : S32x16x64.Idx) : p ∈ rowSet3 (at3 c s) ↔ (p 0).val = s.val * 2 + c.val := by
  unfold rowSet3
  rw [show (row3 (at3 c s) oV3).view.set = Finset.univ.map (row3 (at3 c s) oV3).view.emb from rfl, Finset.mem_map]
  constructor
  · rintro ⟨q, -, rfl⟩; rw [emb3]; rfl
  · intro h
    refine ⟨fun | 0 => p 1 | 1 => p 2 | ⟨_ + 2, h⟩ => absurd h (Nat.not_lt.2 (Nat.le_add_left _ _)), Finset.mem_univ _, ?_⟩
    rw [emb3]
    funext a
    match a with
    | 0 => exact Fin.ext h.symm
    | 1 => rfl
    | 2 => rfl

/-- Different tiles' rows do not meet. -/
theorem rows3_disjoint : ∀ x ∈ (Finset.univ : Finset (Fin 2 × Fin 16)), ∀ y ∈ (Finset.univ : Finset (Fin 2 × Fin 16)), x ≠ y →
    Disjoint (rowSet3 (at3 x.1 x.2)) (rowSet3 (at3 y.1 y.2)) := by
  rintro ⟨c, s⟩ - ⟨c', s'⟩ - h
  refine Finset.disjoint_left.mpr fun p h1 h2 => h ?_
  rw [mem_row3] at h1 h2
  dsimp only at h1 h2
  have : c = c' ∧ s = s' := by constructor <;> apply Fin.ext <;> omega
  rw [this.1, this.2]

/-- The tiles' rows make up the array. -/
theorem rows3_cover : (Finset.univ : Finset (Fin 2 × Fin 16)).biUnion (fun x => rowSet3 (at3 x.1 x.2)) = Finset.univ := by
  refine Finset.eq_univ_of_forall fun p => Finset.mem_biUnion.mpr ?_
  have hp : (p 0).val < 32 := (p 0).isLt
  refine ⟨(⟨(p 0).val % 2, by omega⟩, ⟨(p 0).val / 2, by omega⟩), Finset.mem_univ _, ?_⟩
  rw [mem_row3]; show (p 0).val = (p 0).val / 2 * 2 + (p 0).val % 2; omega

/-- The array held in full is the tiles' rows held one by one. -/
theorem rows3 (d : Dev nD) (f : Buf (Elt F) (hbm d main_v20)) :
    (hbm d main_v20 ↦{fullShare} f : sProp 𝕄)
      = bigSep Finset.univ fun c : Fin 2 => bigSep Finset.univ fun s : Fin 16 => hbm d main_v20 ↦[rowSet3 (at3 c s)]{fullShare} f := by
  rw [← bigSep_univ_prod (fun x : Fin 2 × Fin 16 => (hbm d main_v20 ↦[rowSet3 (at3 x.1 x.2)]{fullShare} f : sProp 𝕄)),
    ← pointsTo_biUnion Finset.univ (ℓ := hbm d main_v20) (fun x : Fin 2 × Fin 16 => rowSet3 (at3 x.1 x.2)) rows3_disjoint]
  exact congrArg (fun S => (hbm d main_v20 ↦[S]{fullShare} f : sProp 𝕄)) rows3_cover.symm

/-! ## What a tile computes -/

section

variable (h : FVec F S32768x128 .f32) (v w : IVec S16 32)

/-- The four chunks of the features that a tile takes. -/
def chunk3 (L : grid3.Coords) (off : Fin 2 → ℕ) (hoff : ∀ a, off a + S256x128.size a ≤ S32768x128.size a) : FVec F S256x128 .f32 :=
  (hV3.slice (Rect.unit (s := S32768x128) off S256x128.size hoff) (fun _ => rfl)).view.read (Elt F) h

/-- A tile's row, -/
def tileOut3 (L : grid3.Coords) : FVec F S16x64 .f32 :=
  tileVal (base3 L) v w (chunk3 h L (k3_off1 L 0#32) (k3_off1_inb L 0)) (chunk3 h L (k3_off1 L 256#32) (k3_off1_inb L 1))
    (chunk3 h L (k3_off258 L 512#32) (k3_off258_inb L 1)) (chunk3 h L (k3_off258 L 768#32) (k3_off258_inb L 2))

/-- and all rows together. -/
def out3 : FVec F S32x16x64 .f32 := fun p =>
  tileOut3 h v w (at3 ⟨(p 0).val % 2, Nat.mod_lt _ (by decide)⟩ ⟨(p 0).val / 2, by have h : (p 0).val < 32 := (p 0).isLt; omega⟩)
    (fun | 0 => p 1 | 1 => p 2 | ⟨_ + 2, h⟩ => absurd h (Nat.not_lt.2 (Nat.le_add_left _ _)))

/-- A tile's row of the call's result is what the tile leaves. -/
theorem out3_row (c : Fin 2) (s : Fin 16) : (row3 (at3 c s) oV3).view.read (Elt F) (out3 h v w) = tileOut3 h v w (at3 c s) := by
  funext p
  show out3 h v w ((row3 (at3 c s) oV3).view.emb p) = _
  rw [emb3]
  have hc : (⟨(s.val * 2 + c.val) % 2, Nat.mod_lt _ (by decide)⟩ : Fin 2) = c := Fin.ext (by show (s.val * 2 + c.val) % 2 = c.val; omega)
  have hs : (⟨(s.val * 2 + c.val) / 2, by omega⟩ : Fin 16) = s := Fin.ext (by show (s.val * 2 + c.val) / 2 = s.val; omega)
  show tileOut3 h v w (at3 ⟨(s.val * 2 + c.val) % 2, _⟩ ⟨(s.val * 2 + c.val) / 2, _⟩) _ = _
  rw [hc, hs]
  refine congrArg _ (funext fun a => ?_)
  match a with
  | 0 => rfl
  | 1 => rfl

end

/-! ## What a tile is handed and hands back -/

section

variable (h : Dev nD → FVec F S32768x128 .f32) (v w : Dev nD → IVec S16 32)

/-- What a tile is given: its row of the result, and shares of what all tiles read. -/
def go3 (d : Dev nD) (c : Fin 2) (s : Fin 16) : sProp 𝕄 :=
  iprop((∃ f, hbm d main_v20 ↦[rowSet3 (at3 c s)]{fullShare} f) ∗ (hbm d main_v19 ↦{tileShare fullShare c s} h d)
    ∗ (hbm d main_v14 ↦{tileShare fullShare.right c s} v d) ∗ (hbm d main_v16 ↦{tileShare fullShare.right c s} w d))

/-- What a tile gives back: its row, filled. -/
def td3 (d : Dev nD) (c : Fin 2) (s : Fin 16) : sProp 𝕄 := iprop(hbm d main_v20 ↦[rowSet3 (at3 c s)]{fullShare} out3 (h d) (v d) (w d))

/-- What a tile is given can be stored in the hand-over, -/
instance go3_storable (d : Dev nD) (c : Fin 2) (s : Fin 16) : BI.Storable (upEmb : UEmb _ 𝕄) (go3 h v w d c s) := by unfold go3; infer_instance
/-- and so can what it gives back. -/
instance td3_storable (d : Dev nD) (c : Fin 2) (s : Fin 16) : BI.Storable (upEmb : UEmb _ 𝕄) (td3 h v w d c s) := by unfold td3; infer_instance

/-- A tile's thread. -/
abbrev vt3 (d : Dev nD) (c : Fin 2) (s : Fin 16) : Thread nD τ := thr3 d (at3 c s)

/-- The call's buffers and semaphores, among a tile's own. -/
theorem bufs3 (d : Dev nD) (c : Fin 2) (s : Fin 16) :
    (ownBufs (vt3 d c s) : sProp 𝕄)
      = iprop((∃ f, (vt3 d c s).loc cc3_scratch0 ↦{fullShare} f) ∗ (∃ f, (vt3 d c s).loc cc3_scratch1 ↦{fullShare} f)
          ∗ (∃ f, (vt3 d c s).loc cc3_scratch2 ↦{fullShare} f) ∗ (∃ f, (vt3 d c s).loc cc3_scratch3 ↦{fullShare} f)
          ∗ (∃ f, (vt3 d c s).loc cc3_scratch4 ↦{fullShare} f)
          ∗ bigSep ((((((ownRefs (τ := τ) (vt3 d c s).2).erase ((vt3 d c s).2.devRef cc3_scratch0)).erase ((vt3 d c s).2.devRef cc3_scratch1)).erase
              ((vt3 d c s).2.devRef cc3_scratch2)).erase ((vt3 d c s).2.devRef cc3_scratch3)).erase ((vt3 d c s).2.devRef cc3_scratch4))
              fun b => iprop(∃ f, ((d, b) : Loc nD τ sig) ↦{fullShare} f)) := by
  unfold ownBufs
  refine take5 (List.map (fun r : Ref sig .scVector => (vt3 d c s).2.devRef r) [cc3_scratch0, cc3_scratch1, cc3_scratch2, cc3_scratch3, cc3_scratch4])
    _ _ _ _ _ rfl (List.Nodup.map (fun _ _ e => Proc.devRef_injective (vt3 d c s).2 e) (by decide)) fun x hx => ?_
  obtain ⟨r, hr, rfl⟩ := List.mem_map.mp hx
  refine SparseCore.Cfg.mem_ownRefs_of_owner ?_
  simp only [List.mem_cons, List.not_mem_nil, or_false] at hr
  rcases hr with rfl | rfl | rfl | rfl | rfl <;> rfl

/-- The call's semaphores among a tile's own, at zero, and the rest. -/
theorem sems3 (d : Dev nD) (c : Fin 2) (s : Fin 16) :
    (ownSems0 (vt3 d c s) : sProp 𝕄)
      = iprop(semVal (vt3 d c s, .dma cc3_scoped0.sem) 0 ∗ semVal (vt3 d c s, .dma cc3_scoped1.sem) 0 ∗ semVal (vt3 d c s, .dma cc3_scoped2.sem) 0
          ∗ semVal (vt3 d c s, .dma cc3_scratch5.sem) 0 ∗ semVal (vt3 d c s, .dma cc3_scratch6.sem) 0
          ∗ bigSep ((((((ownCells (vt3 d c s)).erase (vt3 d c s, .dma cc3_scoped0.sem)).erase (vt3 d c s, .dma cc3_scoped1.sem)).erase
              (vt3 d c s, .dma cc3_scoped2.sem)).erase (vt3 d c s, .dma cc3_scratch5.sem)).erase (vt3 d c s, .dma cc3_scratch6.sem))
              fun g => semVal g 0) := by
  unfold ownSems0
  refine take5 (List.map (fun r : SemLoc sig => ((vt3 d c s, r) : GSem nD τ sig))
    [.dma cc3_scoped0.sem, .dma cc3_scoped1.sem, .dma cc3_scoped2.sem, .dma cc3_scratch5.sem, .dma cc3_scratch6.sem])
    _ _ _ _ _ rfl (List.Nodup.map (fun a b e => (Prod.mk.inj e).2) (by decide)) fun x hx => ?_
  obtain ⟨r, hr, rfl⟩ := List.mem_map.mp hx
  exact mem_ownCells.mpr ⟨rfl, (show ∀ r ∈ ([.dma cc3_scoped0.sem, .dma cc3_scoped1.sem, .dma cc3_scoped2.sem, .dma cc3_scratch5.sem, .dma cc3_scratch6.sem] : List (SemLoc sig)),
    r.isScoped .scVector = true by decide) r hr⟩

/-- A tile's row, as the kernel leaves it, is its row of the whole result. -/
theorem row3_done (d : Dev nD) (c : Fin 2) (s : Fin 16) :
    (owns (vt3 d c s) (row3 (at3 c s) oV3) fullShare (tileOut3 (h d) (v d) (w d) (at3 c s)) : sProp 𝕄) ⊢ td3 h v w d c s := by
  show iprop(∃ f, ⌜(row3 (at3 c s) oV3).view.read (Elt F) f = tileOut3 (h d) (v d) (w d) (at3 c s)⌝ ∗ (hbm d main_v20 ↦[rowSet3 (at3 c s)]{fullShare} f)) ⊢ _
  unfold td3
  iintro ⟨%f, %hf, H⟩
  have e : (hbm d main_v20 ↦[rowSet3 (at3 c s)]{fullShare} f : sProp 𝕄) = hbm d main_v20 ↦[rowSet3 (at3 c s)]{fullShare} out3 (h d) (v d) (w d) := by
    refine pointsTo_congr fun i hi => ?_
    obtain ⟨p, -, rfl⟩ := Finset.mem_map.mp (show i ∈ Finset.univ.map (row3 (at3 c s) oV3).view.emb from hi)
    have := congrFun (hf.trans (out3_row (h d) (v d) (w d) c s).symm) p
    exact this
  ihave H' := (Entails.of_eq e) $$ H
  iexact H'

/-- The tile's row, as the body's copy holds it. -/
theorem row3_start (d : Dev nD) (c : Fin 2) (s : Fin 16) (f : Buf (Elt F) (hbm d main_v20)) :
    (hbm d main_v20 ↦[rowSet3 (at3 c s)]{fullShare} f : sProp 𝕄)
      ⊢ owns (vt3 d c s) (row3 (at3 c s) oV3) fullShare ((row3 (at3 c s) oV3).view.read (Elt F) f) := by
  unfold rowSet3
  exact owns_intro (vt3 d c s) (row3 (at3 c s) oV3) fullShare f

/-- A chunk of the features, as the body's copy holds it. -/
theorem chunk3_start (d : Dev nD) (c : Fin 2) (s : Fin 16) (q : PosShare TreeShare) (off : Fin 2 → ℕ) (hoff : ∀ a, off a + S256x128.size a ≤ S32768x128.size a) :
    (hbm d main_v19 ↦{q} h d : sProp 𝕄)
      ⊢ owns (vt3 d c s) (hV3.slice (Rect.unit (s := S32768x128) off S256x128.size hoff) (fun _ => rfl)) q (chunk3 (h d) (at3 c s) off hoff) := by
  unfold chunk3
  have e := slice_of_whole (Val := Elt F) (Ix := HIx 2) (Name := ℕ) (U := UU) (Lvl := ℕ) (vt3 d c s) (hV3.slice (Rect.unit (s := S32768x128) off S256x128.size hoff) (fun _ => rfl)) q (h d)
  exact e

/-- A whole buffer, as the body holds it, -/
theorem whole_start3 (d : Dev nD) (c : Fin 2) (s : Fin 16) (q : PosShare TreeShare) (b : Ref sig .scVector) (f : b.ty.Contents (Elt F)) :
    ((vt3 d c s).loc b ↦{q} f : sProp 𝕄) ⊢ owns (vt3 d c s) (Memref.whole b) q f := Entails.of_eq (owns_whole (vt3 d c s) b q f).symm
/-- and back. -/
theorem whole_end3 (d : Dev nD) (c : Fin 2) (s : Fin 16) (q : PosShare TreeShare) (b : Ref sig .scVector) (f : b.ty.Contents (Elt F)) :
    owns (vt3 d c s) (Memref.whole b) q f ⊢ ((vt3 d c s).loc b ↦{q} f : sProp 𝕄) := Entails.of_eq (owns_whole (vt3 d c s) b q f)

set_option maxHeartbeats 1000000 in
/-- A tile's run of the call. -/
theorem tile_body3 (d : Dev nD) (c : Fin 2) (s : Fin 16) (O : CellTallies nD τ sig (HIx 2)) (W : Waits sig (HIx 2)) (hO : ∀ g, O g none = 0) :
    iprop(levAts (K (F := F)).L (K (F := F)).lev ∗ emp ∗ go3 h v w d c s ∗ ownBufs (vt3 d c s) ∗ ownSems0 (vt3 d c s) ∗ owes (vt3 d c s) O W)
      ⊢ wp frame (wpE (defs₀ (F := F)) 𝒱₀ (vt3 d c s) none) Set.univ
          (cc3__segmax_body (at3 c s) hV3 (Memref.isWhole_whole _) stV (Memref.isWhole_whole _) enV (Memref.isWhole_whole _) oV3 (Memref.isWhole_whole _)
            (Memref.whole cc3_scratch0) (Memref.isWhole_whole _) (Memref.whole cc3_scratch1) (Memref.isWhole_whole _) (Memref.whole cc3_scratch2) (Memref.isWhole_whole _)
            (Memref.whole cc3_scratch3) (Memref.isWhole_whole _) (Memref.whole cc3_scratch4) (Memref.isWhole_whole _) cc3_scratch5 cc3_scratch6 cc3_scoped0 cc3_scoped1 cc3_scoped2)
          fun _ => iprop(td3 h v w d c s ∗ ownBufs (vt3 d c s) ∗ ownSems0 (vt3 d c s) ∗ ∃ W', ⌜∀ p ∈ W', p ∈ W ∨ p.2 = none⌝ ∗ owes (vt3 d c s) O W') := by
  rw [bufs3, sems3]
  unfold go3
  iintro ⟨#Hlv, -, ⟨⟨%fo, Ho⟩, Hh, Hv, Hw⟩, ⟨⟨%f0, B0⟩, ⟨%f1, B1⟩, ⟨%f2, B2⟩, ⟨%f3, B3⟩, ⟨%f4, B4⟩, HB⟩, ⟨S0, S1, S2, S5, S6, HS⟩, HO⟩
  ihave Hmw := ((K (F := F)).mayWaits_none (thr := vt3 d c s) hO) $$ Hlv
  ihave H4 := (four _ _) $$ Hh
  icases H4 with ⟨C0, C1, C2, C3⟩
  ihave C0 := (chunk3_start h d c s _ (k3_off1 (at3 c s) 0#32) (k3_off1_inb (at3 c s) 0)) $$ C0
  ihave C1 := (chunk3_start h d c s _ (k3_off1 (at3 c s) 256#32) (k3_off1_inb (at3 c s) 1)) $$ C1
  ihave C2 := (chunk3_start h d c s _ (k3_off258 (at3 c s) 512#32) (k3_off258_inb (at3 c s) 1)) $$ C2
  ihave C3 := (chunk3_start h d c s _ (k3_off258 (at3 c s) 768#32) (k3_off258_inb (at3 c s) 2)) $$ C3
  ihave Ho := (row3_start d c s fo) $$ Ho
  ihave Hv := (whole_start3 d c s _ main_v14_scv (v d)) $$ Hv
  ihave Hw := (whole_start3 d c s _ main_v16_scv (w d)) $$ Hw
  ihave B0 := (whole_start3 d c s _ cc3_scratch0 f0) $$ B0
  ihave B1 := (whole_start3 d c s _ cc3_scratch1 f1) $$ B1
  ihave B2 := (whole_start3 d c s _ cc3_scratch2 f2) $$ B2
  ihave B3 := (whole_start3 d c s _ cc3_scratch3 f3) $$ B3
  ihave B4 := (whole_start3 d c s _ cc3_scratch4 f4) $$ B4
  iapply wp_wand_r
  isplitr [HB HS]
  · iapply (tile3 d 𝒱₀ none (defs₀ (F := F)) none O W (at3 c s) hV3 (Memref.isWhole_whole _) stV (Memref.isWhole_whole _) enV (Memref.isWhole_whole _) oV3 (Memref.isWhole_whole _)
            (Memref.whole cc3_scratch0) (Memref.isWhole_whole _) (Memref.whole cc3_scratch1) (Memref.isWhole_whole _) (Memref.whole cc3_scratch2) (Memref.isWhole_whole _)
            (Memref.whole cc3_scratch3) (Memref.isWhole_whole _) (Memref.whole cc3_scratch4) (Memref.isWhole_whole _) cc3_scratch5 cc3_scratch6 cc3_scoped0 cc3_scoped1 cc3_scoped2
            (Q := fun _ => iprop(owns (vt3 d c s) (Memref.whole cc3_scratch2) fullShare (tileOut3 (h d) (v d) (w d) (at3 c s))
              ∗ owns (vt3 d c s) (row3 (at3 c s) oV3) fullShare (tileOut3 (h d) (v d) (w d) (at3 c s))
              ∗ semVal (vt3 d c s, .dma cc3_scoped2.sem) 0 ∗ Transfers.MayWaits (vt3 d c s) none O ∗ owing none O W (vt3 d c s)
              ∗ ((owns (vt3 d c s) stV (tileShare fullShare.right c s) (v d) ∗ owns (vt3 d c s) enV (tileShare fullShare.right c s) (w d)
                    ∗ semVal (vt3 d c s, .dma cc3_scoped0.sem) 0 ∗ semVal (vt3 d c s, .dma cc3_scoped1.sem) 0)
                  ∗ owns (vt3 d c s) (Memref.whole cc3_scratch3) fullShare (v d) ∗ owns (vt3 d c s) (Memref.whole cc3_scratch4) fullShare (w d))
              ∗ semVal (vt3 d c s, .dma cc3_scratch5.sem) 0
              ∗ owns (vt3 d c s) (Memref.whole cc3_scratch0) fullShare (chunk3 (h d) (at3 c s) (k3_off258 (at3 c s) 512#32) (k3_off258_inb (at3 c s) 1))
              ∗ owns (vt3 d c s) (Memref.whole cc3_scratch1) fullShare (chunk3 (h d) (at3 c s) (k3_off258 (at3 c s) 768#32) (k3_off258_inb (at3 c s) 2))
              ∗ semVal (vt3 d c s, .dma cc3_scratch6.sem) 0))
            (BI.Entails.refl _))
    isplitl [Hv]; · iexact Hv
    isplitl [B3]; · iexact B3
    isplitl [S0]; · iexact S0
    isplitl [Hmw]; · iexact Hmw
    isplitl [HO]
    · unfold owing; iexists W; isplitr
      · ipureintro; exact fun p hp => .inl hp
      iexact HO
    isplitl [Hw]; · iexact Hw
    isplitl [B4]; · iexact B4
    isplitl [S1]; · iexact S1
    isplitl [B2]; · iexact B2
    isplitl [B0]; · iexact B0
    isplitl [B1]; · iexact B1
    isplitl [C0]; · iexact C0
    isplitl [S5]; · iexact S5
    isplitl [C1]; · iexact C1
    isplitl [S6]; · iexact S6
    isplitl [C2]; · iexact C2
    isplitl [C3]; · iexact C3
    isplitl [Ho]; · iexact Ho
    iexact S2
  iintro %_ ⟨B2, Ho, S2, -, HO, ⟨⟨-, -, S0, S1⟩, B3, B4⟩, S5, B0, B1, S6⟩
  ihave Ho := (row3_done h v w d c s) $$ Ho
  isplitl [Ho]; · iexact Ho
  ihave B0 := (whole_end3 d c s _ cc3_scratch0 _) $$ B0
  ihave B1 := (whole_end3 d c s _ cc3_scratch1 _) $$ B1
  ihave B2 := (whole_end3 d c s _ cc3_scratch2 _) $$ B2
  ihave B3 := (whole_end3 d c s _ cc3_scratch3 _) $$ B3
  ihave B4 := (whole_end3 d c s _ cc3_scratch4 _) $$ B4
  isplitl [B0 B1 B2 B3 B4 HB]
  · isplitl [B0]; · iexists _; iexact B0
    isplitl [B1]; · iexists _; iexact B1
    isplitl [B2]; · iexists _; iexact B2
    isplitl [B3]; · iexists _; iexact B3
    isplitl [B4]; · iexists _; iexact B4
    iexact HB
  isplitl [S0 S1 S2 S5 S6 HS]
  · isplitl [S0]; · iexact S0
    isplitl [S1]; · iexact S1
    isplitl [S2]; · iexact S2
    isplitl [S5]; · iexact S5
    isplitl [S6]; · iexact S6
    iexact HS
  unfold owing
  iexact HO

end

end Cert.KernelIdeal

end
-- ==== Proof.LaunchIdeal.lean ====
/-
  The whole program's run, with its values: the host operations, the two calls that compute features, the two
  SparseCore calls, the call that joins their results; the arguments keep their contents.
-/
module

public import proofs.«01_k».proof.Proof.ObligIdealB

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T S V)
open Idealize.ShloMosaic.SparseCore.Cfg (HIx)
open Idealize.ShloMosaic.StableHlo (held after)
open Idealize.ShloMosaic.Pipeline (Dat ucRefs)
open Cert.Proof

variable {F : FTy → Type} [FloatOps F]

local notation "𝕄" => MT nD τ sig (HIx 2) (Elt F) ℕ UU ℕ

/-! ## The host's operations -/

/-- The operations before the first call, in order. -/
def ops : List (HloOp τ sig (Elt F)) :=
  [StableHlo.nullary main_c (constantI S1 32 131072#32),
   StableHlo.unary main_arg0 main_v0 ((transpose S61x131072 [1, 0] · transposes_S131072x61_S61x131072_1_0) : (⟨S131072x61, .f32⟩ : BufTy).Contents (Elt F) → (⟨S61x131072, .f32⟩ : BufTy).Contents (Elt F)),
   StableHlo.unary main_arg1 main_v1 ((transpose S3x131072 [1, 0] · transposes_S131072x3_S3x131072_1_0) : (⟨S131072x3, .f32⟩ : BufTy).Contents (Elt F) → (⟨S3x131072, .f32⟩ : BufTy).Contents (Elt F)),
   StableHlo.unary main_arg2 main_v2 ((extractStridedSlice S64x61 ![0, 0] · slices_S64x64_S64x61_0_0) : (⟨S64x64, .f32⟩ : BufTy).Contents (Elt F) → (⟨S64x61, .f32⟩ : BufTy).Contents (Elt F)),
   StableHlo.unary main_v2 main_v3 ((transpose S61x64 [1, 0] · transposes_S64x61_S61x64_1_0) : (⟨S64x61, .f32⟩ : BufTy).Contents (Elt F) → (⟨S61x64, .f32⟩ : BufTy).Contents (Elt F)),
   StableHlo.unary main_arg2 main_v4 ((extractStridedSlice S64x3 ![0, 61] · slices_S64x64_S64x3_0_61) : (⟨S64x64, .f32⟩ : BufTy).Contents (Elt F) → (⟨S64x3, .f32⟩ : BufTy).Contents (Elt F)),
   StableHlo.unary main_v4 main_v5 ((transpose S3x64 [1, 0] · transposes_S64x3_S3x64_1_0) : (⟨S64x3, .f32⟩ : BufTy).Contents (Elt F) → (⟨S3x64, .f32⟩ : BufTy).Contents (Elt F)),
   StableHlo.reshape main_arg3 main_v6 (rfl : (.f32 : EltTy) = .f32) shapeCasts_S64_S1x64,
   StableHlo.nullary main_v7 (iotaInDim S16 32 0),
   StableHlo.unary main_arg4 main_v8 (broadcastInDim S131072x1 ![0] bcast_S131072_S131072x1_0 : (⟨S131072, .i32⟩ : BufTy).Contents (Elt F) → (⟨S131072x1, .i32⟩ : BufTy).Contents (Elt F)),
   StableHlo.unary main_v7 main_v9 (broadcastInDim S1x16 ![1] bcast_S16_S1x16_1 : (⟨S16, .i32⟩ : BufTy).Contents (Elt F) → (⟨S1x16, .i32⟩ : BufTy).Contents (Elt F)),
   StableHlo.unary main_v8 main_v10 (broadcastInDim S131072x16 ![0, 1] bcast_S131072x1_S131072x16_0_1 : (⟨S131072x1, .i32⟩ : BufTy).Contents (Elt F) → (⟨S131072x16, .i32⟩ : BufTy).Contents (Elt F)),
   StableHlo.unary main_v9 main_v11 (broadcastInDim S131072x16 ![0, 1] bcast_S1x16_S131072x16_0_1 : (⟨S1x16, .i32⟩ : BufTy).Contents (Elt F) → (⟨S131072x16, .i32⟩ : BufTy).Contents (Elt F)),
   StableHlo.binary main_v10 main_v11 main_v12 (cmpi .slt : (⟨S131072x16, .i32⟩ : BufTy).Contents (Elt F) → (⟨S131072x16, .i32⟩ : BufTy).Contents (Elt F) → (⟨S131072x16, .i1⟩ : BufTy).Contents (Elt F)),
   StableHlo.unary main_v12 main_v13 ((extui 32 · natLt_1_32) : (⟨S131072x16, .i1⟩ : BufTy).Contents (Elt F) → (⟨S131072x16, .i32⟩ : BufTy).Contents (Elt F)),
   StableHlo.nullary main_c_0 (constantI S_ 32 0#32),
   StableHlo.binary main_v13 main_c_0 main_v14 ((fun x v => Host.reduce IntOp.addi x v reducesTo_S131072x16_S16_d0 h_S_) : (⟨S131072x16, .i32⟩ : BufTy).Contents (Elt F) → (⟨S_, .i32⟩ : BufTy).Contents (Elt F) → (⟨S16, .i32⟩ : BufTy).Contents (Elt F)),
   StableHlo.unary main_v14 main_v15 ((extractStridedSlice S15 ![1] · slices_S16_S15_1) : (⟨S16, .i32⟩ : BufTy).Contents (Elt F) → (⟨S15, .i32⟩ : BufTy).Contents (Elt F)),
   StableHlo.binary main_v15 main_c main_v16 ((fun a b => concatenate S16 0 [⟨S15, a⟩, ⟨S1, b⟩] concatenates_S15_S1_S16_d0) : (⟨S15, .i32⟩ : BufTy).Contents (Elt F) → (⟨S1, .i32⟩ : BufTy).Contents (Elt F) → (⟨S16, .i32⟩ : BufTy).Contents (Elt F))]

/-- The program after them. -/
def calls (d : Dev nD) : Prog (TpuEff nD τ sig (Elt F) (SparseCore.Sig (ΛP (F := F)) 2) .tc) PUnit := do
  Prog.lift (.customCall (SparseCore.inner (Pipeline.entry 0)) ())
  sc.run d 0
  Prog.lift (.customCall (SparseCore.inner (Pipeline.entry 1)) ())
  sc.run d 1
  Prog.lift (.customCall (SparseCore.inner (Pipeline.entry 2)) ())
  pure ⟨⟩

/-- The program is its host operations, then its calls. -/
theorem main_eq (d : Dev nD) : main (F := F) d = StableHlo.seq ops >>= fun _ => calls d := rfl

/-- The host operations touch only unscoped buffers, -/
theorem ops_sub : ∀ op ∈ ops (F := F), op.bufs ⊆ ucRefs τ sig := by
  have h : (ops (F := F)).Forall fun op => op.bufs ⊆ StableHlo.tcRefs τ sig :=
    ⟨StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub ..⟩
  exact fun op hop => Pipeline.sub_ucRefs op (List.forall_iff_forall_mem.mp h op hop)

/-- make no fresh one, -/
theorem ops_fresh : ∀ op ∈ ops (F := F), op.fresh = ∅ := by
  intro op h
  simp only [ops, List.mem_cons, List.not_mem_nil, or_false] at h
  rcases h with rfl | rfl | rfl | rfl | rfl | rfl | rfl | rfl | rfl | rfl | rfl | rfl | rfl | rfl | rfl | rfl | rfl | rfl | rfl <;> rfl

/-- What they write. -/
abbrev made : List (Ref sig .tc) := [main_c, main_v0, main_v1, main_v2, main_v3, main_v4, main_v5, main_v6, main_v7, main_v8, main_v9, main_v10, main_v11,
  main_v12, main_v13, main_c_0, main_v14, main_v15, main_v16]

/-- and write only what they make. -/
theorem ops_writes : (ops (F := F)).Forall fun op => op.writes ⊆ (made.map (Proc.devRef (τ := τ) .tc)).toFinset := by
  unfold ops
  simp only [List.forall_cons, List.Forall]
  refine ⟨?_, ?_, ?_, ?_, ?_, ?_, ?_, ?_, ?_, ?_, ?_, ?_, ?_, ?_, ?_, ?_, ?_, ?_, ?_⟩ <;>
    exact Finset.singleton_subset_iff.mpr (List.mem_toFinset.mpr (List.mem_map_of_mem (by decide)))

/-! ## What the calls' handshakes carry -/

/-- The side conditions of the SparseCore calls' configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

variable (h1 h3 : Dev nD → FVec F S32768x128 .f32) (v w : Dev nD → IVec S16 32)

/-- What tile `s` of SparseCore `c` is given by a call and gives back. -/
def go (q : Fin 2) (d : Dev nD) (c : Fin 2) (s : Fin 16) : sProp 𝕄 := match q with
  | 0 => go1 h1 v w d c s
  | 1 => go3 h3 v w d c s
/-- What a tile gives back at the end of a call. -/
def td (q : Fin 2) (d : Dev nD) (c : Fin 2) (s : Fin 16) : sProp 𝕄 := match q with
  | 0 => td1 h1 v w d c s
  | 1 => td3 h3 v w d c s

/-- What a tile is given can be stored in the hand-over, -/
instance go_storable (q : Fin 2) (d : Dev nD) (c : Fin 2) (s : Fin 16) : BI.Storable (upEmb : UEmb _ 𝕄) (go h1 h3 v w q d c s) := match q with
  | 0 => (inferInstance : BI.Storable (upEmb : UEmb _ 𝕄) (go1 h1 v w d c s))
  | 1 => (inferInstance : BI.Storable (upEmb : UEmb _ 𝕄) (go3 h3 v w d c s))
/-- and so can what it gives back. -/
instance td_storable (q : Fin 2) (d : Dev nD) (c : Fin 2) (s : Fin 16) : BI.Storable (upEmb : UEmb _ 𝕄) (td h1 h3 v w q d c s) := match q with
  | 0 => (inferInstance : BI.Storable (upEmb : UEmb _ 𝕄) (td1 h1 v w d c s))
  | 1 => (inferInstance : BI.Storable (upEmb : UEmb _ 𝕄) (td3 h3 v w d c s))

/-- Each call uses both SparseCores, -/
theorem cores (q : Fin 2) : (K (F := F)).nCore q = 2 := by match q with | 0 => rfl | 1 => rfl
/-- and all sixteen tiles of each. -/
theorem subs (q : Fin 2) : (K (F := F)).nSub q = 16 := by match q with | 0 => rfl | 1 => rfl

/-- Each SparseCore is given what its tiles are given, and gives back what they give back. -/
def P : (K (F := F)).Pay (nD := nD) (Val := Elt F) (Name := ℕ) (U := UU) where
  st q d c := bigSep Finset.univ fun s : Fin 16 => go h1 h3 v w q d (Fin.cast (cores q) c) s
  dn q d c := bigSep Finset.univ fun s : Fin 16 => td h1 h3 v w q d (Fin.cast (cores q) c) s
  go q d c i := go h1 h3 v w q d (Fin.cast (cores q) c) (Fin.cast (subs q) i)
  td q d c i := td h1 h3 v w q d (Fin.cast (cores q) c) (Fin.cast (subs q) i)
  x _ _ := BI.emp

/-- Everything the hand-overs carry can be stored. -/
instance P_storable : (P h1 h3 v w).IsStorable where
  st q d c := by unfold P; infer_instance
  dn q d c := by unfold P; infer_instance
  go q d c i := by unfold P; infer_instance
  td q d c i := by unfold P; infer_instance

/-- The call's tiles, counted as sixteen. -/
theorem subs_all (q : Fin 2) (Φ : Fin 16 → sProp 𝕄) :
    (bigSep Finset.univ fun i : Fin ((K (F := F)).nSub q) => Φ (Fin.cast (subs q) i)) = bigSep Finset.univ Φ :=
  match q with
  | 0 => bigSep_congr fun _ _ => congrArg Φ (Fin.ext rfl)
  | 1 => bigSep_congr fun _ _ => congrArg Φ (Fin.ext rfl)
/-- The call's SparseCores, counted as two. -/
theorem cores_all (q : Fin 2) (Φ : Fin 2 → sProp 𝕄) :
    (bigSep Finset.univ fun i : Fin ((K (F := F)).nCore q) => Φ (Fin.cast (cores q) i)) = bigSep Finset.univ Φ :=
  match q with
  | 0 => bigSep_congr fun _ _ => congrArg Φ (Fin.ext rfl)
  | 1 => bigSep_congr fun _ _ => congrArg Φ (Fin.ext rfl)

/-- A SparseCore's share of a call is its tiles' shares. -/
theorem vecSplit (q : Fin 2) : (K (F := F)).VecSplit' (P h1 h3 v w) q := by
  intro d c
  show (bigSep Finset.univ fun s : Fin 16 => go h1 h3 v w q d (Fin.cast (cores q) c) s) ⊢ |={Set.univ}=> iprop(
    (bigSep Finset.univ fun i : Fin ((K (F := F)).nSub q) => go h1 h3 v w q d (Fin.cast (cores q) c) (Fin.cast (subs q) i))
    ∗ ((bigSep Finset.univ fun i : Fin ((K (F := F)).nSub q) => td h1 h3 v w q d (Fin.cast (cores q) c) (Fin.cast (subs q) i))
        -∗ bigSep Finset.univ fun s : Fin 16 => td h1 h3 v w q d (Fin.cast (cores q) c) s))
  rw [subs_all q (fun i => go h1 h3 v w q d (Fin.cast (cores q) c) i), subs_all q (fun i => td h1 h3 v w q d (Fin.cast (cores q) c) i)]
  iintro H; imodintro
  isplitl [H]; · iexact H
  iintro H; iexact H

/-! ## The tiles' runs -/

/-- A tile's end, with the waits of its call allowed in the record. -/
theorem obl_weaken {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

/-- The first call's task on a tile is the body at that tile, -/
theorem row_1 (c : Fin τ.nSC) (s : Fin τ.nSub) :
    defs₀ (F := F) (.scVector c s) 1 ()
      = SparseCore.onTile hcore1 hsub1 (fun c s => cc1__segmax_body (at1 c s) hV1 (Memref.isWhole_whole _) stV (Memref.isWhole_whole _) enV (Memref.isWhole_whole _) oV1 (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) cc1_scratch5 cc1_scratch6 cc1_scoped0 cc1_scoped1 cc1_scoped2) ⟨⟩ c s := rfl
/-- and the second's likewise. -/
theorem row_3 (c : Fin τ.nSC) (s : Fin τ.nSub) :
    defs₀ (F := F) (.scVector c s) 3 ()
      = SparseCore.onTile hcore3 hsub3 (fun c s => cc3__segmax_body (at3 c s) hV3 (Memref.isWhole_whole _) stV (Memref.isWhole_whole _) enV (Memref.isWhole_whole _) oV3 (Memref.isWhole_whole _)
            (Memref.whole cc3_scratch0) (Memref.isWhole_whole _) (Memref.whole cc3_scratch1) (Memref.isWhole_whole _) (Memref.whole cc3_scratch2) (Memref.isWhole_whole _)
            (Memref.whole cc3_scratch3) (Memref.isWhole_whole _) (Memref.whole cc3_scratch4) (Memref.isWhole_whole _) cc3_scratch5 cc3_scratch6 cc3_scoped0 cc3_scoped1 cc3_scoped2) ⟨⟩ c s := rfl

/-! ## The ghost state the launch makes -/

/-- The pipelined calls' semaphores are all different. -/
theorem stages_inj : Function.Injective (Pipeline.cellOf (nD := nD) (τ := τ) (Pipeline.pin (pcfgs (F := F)) adm)) := cellOf_inj

/-- The ghost state at the start. -/
def u₀ : UU := (initOf (K (F := F)).hsCells (K (F := F)).hsToks,
  (initOf (Pipeline.cells (Pipeline.pin (pcfgs (F := F)) adm) stages_inj) (Pipeline.launchToks (Pipeline.pin (pcfgs (F := F)) adm) stages_inj), 1))

/-- Each device's TensorCore is given the ghost state of the three regions' staging cells. -/
def G (d : Dev nD) : sProp 𝕄 :=
  iprop((bigSep Finset.univ fun p : Fin 3 => Pipeline.cellsGhost (Pipeline.pin (pcfgs (F := F)) adm) EP p d)
    ∗ bigSep Finset.univ fun p : Fin 3 => Pipeline.toksInit (Pipeline.pin (pcfgs (F := F)) adm) EP p d)

/-- The ghost state at the start yields the hand-overs' and the pipelined calls'. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P h1 h3 v w).x q thr) := by
  unfold u₀
  iintro Hu
  ihave H := (ownU_pair _ _) $$ Hu
  icases H with ⟨HH, HK⟩
  ihave H := (own_pair_emb embR _ _) $$ HK
  icases H with ⟨HP, -⟩
  ihave HP := (Entails.of_eq (show BI.own (((Emb.inl : Emb UP (UP × Counters)).trans embR) _) = (BI.own (EP _) : sProp 𝕄) from rfl)) $$ HP
  imod (Pipeline.fund_ghost (Pipeline.pin (pcfgs (F := F)) adm) EP stages_inj) $$ HP with ⟨Hc, Ht⟩
  imodintro
  isplitl [HH]; · iexact HH
  isplitl [Hc Ht]
  · unfold G
    rw [bigSep_sep']
    isplitl [Hc] <;> iassumption
  rw [show (fun thr : Thread nD τ => bigSep Finset.univ fun q : Fin 2 => (P h1 h3 v w).x q thr) = fun _ => (BI.emp : sProp 𝕄) from
    funext fun thr => (bigSep_emp_const (Finset.univ : Finset (Fin 2))), bigSep_emp_const]
  iempintro

end Cert.KernelIdeal

end
-- ==== Proof.TasksIdeal.lean ====
/-
  The tiles' runs as the launch asks for them.
-/
module

public import proofs.«01_k».proof.Proof.LaunchIdeal

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T S V)
open Idealize.ShloMosaic.SparseCore.Cfg (HIx)
open Idealize.ShloMosaic.StableHlo (held after)
open Idealize.ShloMosaic.Pipeline (Dat ucRefs)
open Cert.Proof

variable {F : FTy → Type} [FloatOps F]

local notation "𝕄" => MT nD τ sig (HIx 2) (Elt F) ℕ UU ℕ

variable (h1 h3 : Dev nD → FVec F S32768x128 .f32) (v w : Dev nD → IVec S16 32)

attribute [local irreducible] cc1__segmax_body cc3__segmax_body SparseCore.Cfg.ownBufs SparseCore.Cfg.ownSems0 go1 td1 go3 td3

/-- A tile's run of the first call meets what the launch asks, -/
theorem tileObl1 : (K (F := F)).TileObl (D (F := F)) 𝒱 (P h1 h3 v w) v₀ 0 := by
  intro d c i O W hO _ _
  simp only [show (P h1 h3 v w).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [row_1, (K (F := F)).scopedBufs_V facts d, SparseCore.Cfg.scopedSems0_V (Val := Elt F) d]
  simp only [SparseCore.onTile, hc, and_self, ↓reduceDIte]
  exact (tile_body1 h1 v w d ⟨_, hc.1⟩ ⟨_, hc.2⟩ O W hO).trans (wp_mono frame _ _ fun _ => obl_weaken (q := 0))

/-- and of the second. -/
theorem tileObl3 : (K (F := F)).TileObl (D (F := F)) 𝒱 (P h1 h3 v w) v₀ 1 := by
  intro d c i O W hO _ _
  simp only [show (P h1 h3 v w).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [row_3, (K (F := F)).scopedBufs_V facts d, SparseCore.Cfg.scopedSems0_V (Val := Elt F) d]
  simp only [SparseCore.onTile, hc, and_self, ↓reduceDIte]
  exact (tile_body3 h3 v w d ⟨_, hc.1⟩ ⟨_, hc.2⟩ O W hO).trans (wp_mono frame _ _ fun _ => obl_weaken (q := 1))

end Cert.KernelIdeal

end
-- ==== Proof.MainIdeal.lean ====
/-
  The whole program's run on the TensorCore: each of the three regions and the two SparseCore calls over the arrays
  they touch, then all of them in order.
-/
module

public import proofs.«01_k».proof.Proof.TasksIdeal

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T S V)
open Idealize.ShloMosaic.SparseCore.Cfg (HIx)
open Idealize.ShloMosaic.StableHlo (held after)
open Idealize.ShloMosaic.Pipeline (Dat ucRefs)
open Cert.Proof

variable {F : FTy → Type} [FloatOps F]

local notation "𝕄" => MT nD τ sig (HIx 2) (Elt F) ℕ UU ℕ

/-! ## One region -/

variable (W : (p : Fin 3) → (c : Dev nD) → (b : Ref sig .tc) → Buf (Elt F) ((c : Thread nD τ).loc b))

/-- A pipelined call runs from its precondition to its postcondition. -/
theorem region_wp [∀ e, Nonempty (Elt F e)] (p : Fin 3) (d : Dev nD) (Q : PUnit → sProp 𝕄) :
    iprop((iprop(boundary (SparseCore.T d : Thread nD τ) ∗ (seg W p).post d) -∗ Q ⟨⟩) ∗ boundary (SparseCore.T d : Thread nD τ) ∗ (seg W p).pre d
        ∗ levAts (K (F := F)).L (K (F := F)).lev ∗ Pipeline.cellsGhost (Pipeline.pin (pcfgs (F := F)) adm) EP p d
        ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Q := by
  refine BIBase.Entails.trans ?_ ((K (F := F)).wp_liftProg (D (F := F)) 𝒱 (SparseCore.T d) Set.univ none (.op (.customCall (Pipeline.entry p) ()) .ret) Q)
  refine BIBase.Entails.trans ?_ (Pipeline.RegionSeg.wp (pcfgs (F := F)) adm (pdats W) none stages_inj EP defs₀ 𝒱₀ (K (F := F)).L (K (F := F)).lev
    (seg W p) d none (fun _ h => nomatch h) .ret Q)
  iintro ⟨HQ, H⟩
  isplitl [HQ]
  · iintro H
    iapply (Entails.of_eq (wp_ret (Q := Q) frame _ _ ⟨⟩).symm)
    imodintro
    iapply HQ; iexact H
  iexact H

/-! ## The arrays a region touches -/

/-- Equal parts make equal wholes. -/
theorem sep_eq {a a' b b' : sProp 𝕄} (h : a = a') (k : b = b') : iprop(a ∗ b) = iprop(a' ∗ b') := by rw [h, k]

/-- A window's share of its array is a share of all of the array. -/
theorem whole0 (d : Dev nD) (A : (w : Fin 8) → Buf (Elt F) ((cfg0.win w).arr.view.loc (d : Thread nD τ))) (w : Fin 8) :
    ((cfg0.win w).arr.view.loc (d : Thread nD τ) ↦[(cfg0.win w).arr.view.set]{(dat0 W d).share w} A w : sProp 𝕄)
      = ((cfg0.win w).arr.view.loc (d : Thread nD τ) ↦{(dat0 W d).share w} A w) := by
  rw [show (cfg0.win w).arr.view.set = Finset.univ from (arr_whole0 w).set_eq_univ]

/-- The call's arrays, one by one. -/
theorem arrays0 (d : Dev nD) (A : (w : Fin 8) → Buf (Elt F) ((cfg0.win w).arr.view.loc (d : Thread nD τ))) :
    ((dat0 W d).arrays A : sProp 𝕄)
      = iprop((hbm d main_v0 ↦{fullShare.left} A 0) ∗ (hbm d main_v0 ↦{fullShare.right} A 1) ∗ (hbm d main_v1 ↦{fullShare.left} A 2)
          ∗ (hbm d main_v1 ↦{fullShare.right} A 3) ∗ (hbm d main_v3 ↦{fullShare} A 4) ∗ (hbm d main_v5 ↦{fullShare} A 5)
          ∗ (hbm d main_v6 ↦{fullShare} A 6) ∗ (hbm d main_v17 ↦{fullShare} A 7)) := by
  unfold Dat.arrays
  rw [bigSep_congr fun w _ => whole0 W d A w, bigSep_W0]
  have e0 : ((cfg0.win 0).arr.view.loc (d : Thread nD τ) ↦{(dat0 W d).share 0} A 0 : sProp 𝕄) = (hbm d main_v0 ↦{fullShare.left} A 0) := by exact rfl
  have e1 : ((cfg0.win 1).arr.view.loc (d : Thread nD τ) ↦{(dat0 W d).share 1} A 1 : sProp 𝕄) = (hbm d main_v0 ↦{fullShare.right} A 1) := by exact rfl
  have e2 : ((cfg0.win 2).arr.view.loc (d : Thread nD τ) ↦{(dat0 W d).share 2} A 2 : sProp 𝕄) = (hbm d main_v1 ↦{fullShare.left} A 2) := by exact rfl
  have e3 : ((cfg0.win 3).arr.view.loc (d : Thread nD τ) ↦{(dat0 W d).share 3} A 3 : sProp 𝕄) = (hbm d main_v1 ↦{fullShare.right} A 3) := by exact rfl
  have e4 : ((cfg0.win 4).arr.view.loc (d : Thread nD τ) ↦{(dat0 W d).share 4} A 4 : sProp 𝕄) = (hbm d main_v3 ↦{fullShare} A 4) := by exact rfl
  have e5 : ((cfg0.win 5).arr.view.loc (d : Thread nD τ) ↦{(dat0 W d).share 5} A 5 : sProp 𝕄) = (hbm d main_v5 ↦{fullShare} A 5) := by exact rfl
  have e6 : ((cfg0.win 6).arr.view.loc (d : Thread nD τ) ↦{(dat0 W d).share 6} A 6 : sProp 𝕄) = (hbm d main_v6 ↦{fullShare} A 6) := by exact rfl
  have e7 : ((cfg0.win 7).arr.view.loc (d : Thread nD τ) ↦{(dat0 W d).share 7} A 7 : sProp 𝕄) = (hbm d main_v17 ↦{fullShare} A 7) := by exact rfl
  exact sep_eq e0 (sep_eq e1 (sep_eq e2 (sep_eq e3 (sep_eq e4 (sep_eq e5 (sep_eq e6 e7))))))

/-- A window's share of its array is a share of all of the array. -/
theorem whole2 (d : Dev nD) (A : (w : Fin 8) → Buf (Elt F) ((cfg2.win w).arr.view.loc (d : Thread nD τ))) (w : Fin 8) :
    ((cfg2.win w).arr.view.loc (d : Thread nD τ) ↦[(cfg2.win w).arr.view.set]{(dat2 W d).share w} A w : sProp 𝕄)
      = ((cfg2.win w).arr.view.loc (d : Thread nD τ) ↦{(dat2 W d).share w} A w) := by
  rw [show (cfg2.win w).arr.view.set = Finset.univ from (arr_whole2 w).set_eq_univ]

/-- The call's arrays, one by one. -/
theorem arrays2 (d : Dev nD) (A : (w : Fin 8) → Buf (Elt F) ((cfg2.win w).arr.view.loc (d : Thread nD τ))) :
    ((dat2 W d).arrays A : sProp 𝕄)
      = iprop((hbm d main_v0 ↦{fullShare.left} A 0) ∗ (hbm d main_v0 ↦{fullShare.right} A 1) ∗ (hbm d main_v1 ↦{fullShare.left} A 2)
          ∗ (hbm d main_v1 ↦{fullShare.right} A 3) ∗ (hbm d main_v3 ↦{fullShare} A 4) ∗ (hbm d main_v5 ↦{fullShare} A 5)
          ∗ (hbm d main_v6 ↦{fullShare} A 6) ∗ (hbm d main_v19 ↦{fullShare} A 7)) := by
  unfold Dat.arrays
  rw [bigSep_congr fun w _ => whole2 W d A w, bigSep_W2]
  have e0 : ((cfg2.win 0).arr.view.loc (d : Thread nD τ) ↦{(dat2 W d).share 0} A 0 : sProp 𝕄) = (hbm d main_v0 ↦{fullShare.left} A 0) := by exact rfl
  have e1 : ((cfg2.win 1).arr.view.loc (d : Thread nD τ) ↦{(dat2 W d).share 1} A 1 : sProp 𝕄) = (hbm d main_v0 ↦{fullShare.right} A 1) := by exact rfl
  have e2 : ((cfg2.win 2).arr.view.loc (d : Thread nD τ) ↦{(dat2 W d).share 2} A 2 : sProp 𝕄) = (hbm d main_v1 ↦{fullShare.left} A 2) := by exact rfl
  have e3 : ((cfg2.win 3).arr.view.loc (d : Thread nD τ) ↦{(dat2 W d).share 3} A 3 : sProp 𝕄) = (hbm d main_v1 ↦{fullShare.right} A 3) := by exact rfl
  have e4 : ((cfg2.win 4).arr.view.loc (d : Thread nD τ) ↦{(dat2 W d).share 4} A 4 : sProp 𝕄) = (hbm d main_v3 ↦{fullShare} A 4) := by exact rfl
  have e5 : ((cfg2.win 5).arr.view.loc (d : Thread nD τ) ↦{(dat2 W d).share 5} A 5 : sProp 𝕄) = (hbm d main_v5 ↦{fullShare} A 5) := by exact rfl
  have e6 : ((cfg2.win 6).arr.view.loc (d : Thread nD τ) ↦{(dat2 W d).share 6} A 6 : sProp 𝕄) = (hbm d main_v6 ↦{fullShare} A 6) := by exact rfl
  have e7 : ((cfg2.win 7).arr.view.loc (d : Thread nD τ) ↦{(dat2 W d).share 7} A 7 : sProp 𝕄) = (hbm d main_v19 ↦{fullShare} A 7) := by exact rfl
  exact sep_eq e0 (sep_eq e1 (sep_eq e2 (sep_eq e3 (sep_eq e4 (sep_eq e5 (sep_eq e6 e7))))))

/-- A window's share of its array is a share of all of the array. -/
theorem whole4 (d : Dev nD) (A : (w : Fin 3) → Buf (Elt F) ((cfg4.win w).arr.view.loc (d : Thread nD τ))) (w : Fin 3) :
    ((cfg4.win w).arr.view.loc (d : Thread nD τ) ↦[(cfg4.win w).arr.view.set]{(dat4 W d).share w} A w : sProp 𝕄)
      = ((cfg4.win w).arr.view.loc (d : Thread nD τ) ↦{(dat4 W d).share w} A w) := by
  rw [show (cfg4.win w).arr.view.set = Finset.univ from (arr_whole4 w).set_eq_univ]

/-- The call's arrays, one by one. -/
theorem arrays4 (d : Dev nD) (A : (w : Fin 3) → Buf (Elt F) ((cfg4.win w).arr.view.loc (d : Thread nD τ))) :
    ((dat4 W d).arrays A : sProp 𝕄)
      = iprop((hbm d main_v18 ↦{fullShare} A 0) ∗ (hbm d main_v20 ↦{fullShare} A 1) ∗ (hbm d main_v21 ↦{fullShare} A 2)) := by
  unfold Dat.arrays
  rw [bigSep_congr fun w _ => whole4 W d A w, bigSep_W4]
  have e0 : ((cfg4.win 0).arr.view.loc (d : Thread nD τ) ↦{(dat4 W d).share 0} A 0 : sProp 𝕄) = (hbm d main_v18 ↦{fullShare} A 0) := by exact rfl
  have e1 : ((cfg4.win 1).arr.view.loc (d : Thread nD τ) ↦{(dat4 W d).share 1} A 1 : sProp 𝕄) = (hbm d main_v20 ↦{fullShare} A 1) := by exact rfl
  have e2 : ((cfg4.win 2).arr.view.loc (d : Thread nD τ) ↦{(dat4 W d).share 2} A 2 : sProp 𝕄) = (hbm d main_v21 ↦{fullShare} A 2) := by exact rfl
  exact sep_eq e0 (sep_eq e1 e2)

/-! ## The regions over those arrays -/

/-- The ghost state of one region's staging cells. -/
def ghost (p : Fin 3) (d : Dev nD) : sProp 𝕄 :=
  iprop(Pipeline.cellsGhost (Pipeline.pin (pcfgs (F := F)) adm) EP p d ∗ Pipeline.toksInit (Pipeline.pin (pcfgs (F := F)) adm) EP p d)

/-- An array held in full is held in two half shares. -/
theorem two_halves {ℓ : Loc nD τ sig} (f : Buf (Elt F) ℓ) :
    (ℓ ↦{fullShare} f : sProp 𝕄) ⊣⊢ iprop((ℓ ↦{fullShare.left} f) ∗ (ℓ ↦{fullShare.right} f)) :=
  pointsTo_share (PosShare.mem_left_op_right fullShare)

/-- What the first call takes, array by array. -/
theorem pre0 (d : Dev nD) : (seg W 0).pre d
    = iprop(((hbm d main_v0 ↦{fullShare.left} W 0 d main_v0) ∗ (hbm d main_v0 ↦{fullShare.right} W 0 d main_v0) ∗ (hbm d main_v1 ↦{fullShare.left} W 0 d main_v1) ∗ (hbm d main_v1 ↦{fullShare.right} W 0 d main_v1) ∗ (hbm d main_v3 ↦{fullShare} W 0 d main_v3) ∗ (hbm d main_v5 ↦{fullShare} W 0 d main_v5) ∗ (hbm d main_v6 ↦{fullShare} W 0 d main_v6)
        ∗ (hbm d main_v17 ↦{fullShare} W 0 d main_v17)) ∗ debt 0 d) := by
  have h : (seg W 0).pre d = iprop((dat0 W d).arrays ((dat0 W d).arrAt · 0) ∗ debt 0 d) := rfl
  rw [h]
  exact sep_eq (arrays0 W d _) rfl

/-- What the first call leaves, array by array. -/
theorem post0 (d : Dev nD) : (seg W 0).post d
    = iprop(((hbm d main_v0 ↦{fullShare.left} W 0 d main_v0) ∗ (hbm d main_v0 ↦{fullShare.right} W 0 d main_v0) ∗ (hbm d main_v1 ↦{fullShare.left} W 0 d main_v1) ∗ (hbm d main_v1 ↦{fullShare.right} W 0 d main_v1) ∗ (hbm d main_v3 ↦{fullShare} W 0 d main_v3) ∗ (hbm d main_v5 ↦{fullShare} W 0 d main_v5) ∗ (hbm d main_v6 ↦{fullShare} W 0 d main_v6)
        ∗ (hbm d main_v17 ↦{fullShare} (dat0 W d).arrAt 7 cfg0.N)) ∗ debt 0 d) := by
  have h : (seg W 0).post d = iprop((dat0 W d).arrays ((dat0 W d).arrAt · cfg0.N) ∗ debt 0 d) := rfl
  rw [h]
  refine sep_eq ((arrays0 W d _).trans ?_) rfl
  exact sep_eq (congrArg (fun f => (hbm d main_v0 ↦{fullShare.left} f : sProp 𝕄)) ((dat0 W d).arrAt_in 0 rfl _))
    (sep_eq (congrArg (fun f => (hbm d main_v0 ↦{fullShare.right} f : sProp 𝕄)) ((dat0 W d).arrAt_in 1 rfl _))
    (sep_eq (congrArg (fun f => (hbm d main_v1 ↦{fullShare.left} f : sProp 𝕄)) ((dat0 W d).arrAt_in 2 rfl _))
    (sep_eq (congrArg (fun f => (hbm d main_v1 ↦{fullShare.right} f : sProp 𝕄)) ((dat0 W d).arrAt_in 3 rfl _))
    (sep_eq (congrArg (fun f => (hbm d main_v3 ↦{fullShare} f : sProp 𝕄)) ((dat0 W d).arrAt_in 4 rfl _))
    (sep_eq (congrArg (fun f => (hbm d main_v5 ↦{fullShare} f : sProp 𝕄)) ((dat0 W d).arrAt_in 5 rfl _))
    (sep_eq (congrArg (fun f => (hbm d main_v6 ↦{fullShare} f : sProp 𝕄)) ((dat0 W d).arrAt_in 6 rfl _))
    (rfl)))))))

/-- What the second `_mlp` call takes, array by array. -/
theorem pre2 (d : Dev nD) : (seg W 1).pre d
    = iprop(((hbm d main_v0 ↦{fullShare.left} W 1 d main_v0) ∗ (hbm d main_v0 ↦{fullShare.right} W 1 d main_v0) ∗ (hbm d main_v1 ↦{fullShare.left} W 1 d main_v1) ∗ (hbm d main_v1 ↦{fullShare.right} W 1 d main_v1) ∗ (hbm d main_v3 ↦{fullShare} W 1 d main_v3) ∗ (hbm d main_v5 ↦{fullShare} W 1 d main_v5) ∗ (hbm d main_v6 ↦{fullShare} W 1 d main_v6)
        ∗ (hbm d main_v19 ↦{fullShare} W 1 d main_v19)) ∗ debt 1 d) := by
  have h : (seg W 1).pre d = iprop((dat2 W d).arrays ((dat2 W d).arrAt · 0) ∗ debt 1 d) := rfl
  rw [h]
  exact sep_eq (arrays2 W d _) rfl

/-- What the second `_mlp` call leaves, array by array. -/
theorem post2 (d : Dev nD) : (seg W 1).post d
    = iprop(((hbm d main_v0 ↦{fullShare.left} W 1 d main_v0) ∗ (hbm d main_v0 ↦{fullShare.right} W 1 d main_v0) ∗ (hbm d main_v1 ↦{fullShare.left} W 1 d main_v1) ∗ (hbm d main_v1 ↦{fullShare.right} W 1 d main_v1) ∗ (hbm d main_v3 ↦{fullShare} W 1 d main_v3) ∗ (hbm d main_v5 ↦{fullShare} W 1 d main_v5) ∗ (hbm d main_v6 ↦{fullShare} W 1 d main_v6)
        ∗ (hbm d main_v19 ↦{fullShare} (dat2 W d).arrAt 7 cfg2.N)) ∗ debt 1 d) := by
  have h : (seg W 1).post d = iprop((dat2 W d).arrays ((dat2 W d).arrAt · cfg2.N) ∗ debt 1 d) := rfl
  rw [h]
  refine sep_eq ((arrays2 W d _).trans ?_) rfl
  exact sep_eq (congrArg (fun f => (hbm d main_v0 ↦{fullShare.left} f : sProp 𝕄)) ((dat2 W d).arrAt_in 0 rfl _))
    (sep_eq (congrArg (fun f => (hbm d main_v0 ↦{fullShare.right} f : sProp 𝕄)) ((dat2 W d).arrAt_in 1 rfl _))
    (sep_eq (congrArg (fun f => (hbm d main_v1 ↦{fullShare.left} f : sProp 𝕄)) ((dat2 W d).arrAt_in 2 rfl _))
    (sep_eq (congrArg (fun f => (hbm d main_v1 ↦{fullShare.right} f : sProp 𝕄)) ((dat2 W d).arrAt_in 3 rfl _))
    (sep_eq (congrArg (fun f => (hbm d main_v3 ↦{fullShare} f : sProp 𝕄)) ((dat2 W d).arrAt_in 4 rfl _))
    (sep_eq (congrArg (fun f => (hbm d main_v5 ↦{fullShare} f : sProp 𝕄)) ((dat2 W d).arrAt_in 5 rfl _))
    (sep_eq (congrArg (fun f => (hbm d main_v6 ↦{fullShare} f : sProp 𝕄)) ((dat2 W d).arrAt_in 6 rfl _))
    (rfl)))))))

/-- The first `_mlp` call: from its arrays to the same with its result. -/
theorem call0 [∀ e, Nonempty (Elt F e)] (d : Dev nD) (Q : PUnit → sProp 𝕄) :
    iprop(boundary (SparseCore.T d : Thread nD τ) ∗ debt 0 d ∗ levAts (K (F := F)).L (K (F := F)).lev ∗ ghost 0 d
        ∗ ((hbm d main_v0 ↦{fullShare} W 0 d main_v0) ∗ (hbm d main_v1 ↦{fullShare} W 0 d main_v1) ∗ (hbm d main_v3 ↦{fullShare} W 0 d main_v3)
          ∗ (hbm d main_v5 ↦{fullShare} W 0 d main_v5) ∗ (hbm d main_v6 ↦{fullShare} W 0 d main_v6) ∗ (hbm d main_v17 ↦{fullShare} W 0 d main_v17))
        ∗ ((boundary (SparseCore.T d : Thread nD τ) ∗ debt 0 d
            ∗ ((hbm d main_v0 ↦{fullShare} W 0 d main_v0) ∗ (hbm d main_v1 ↦{fullShare} W 0 d main_v1) ∗ (hbm d main_v3 ↦{fullShare} W 0 d main_v3)
              ∗ (hbm d main_v5 ↦{fullShare} W 0 d main_v5) ∗ (hbm d main_v6 ↦{fullShare} W 0 d main_v6) ∗ (hbm d main_v17 ↦{fullShare} (dat0 W d).arrAt 7 cfg0.N)))
          -∗ Q ⟨⟩))
      ⊢ wp frame (wpE ((K (F := F)).defs (D (F := F))) 𝒱 (SparseCore.T d) none) Set.univ
          (Prog.lift (.customCall (SparseCore.inner (Pipeline.entry 0)) ())) Q := by
  refine BIBase.Entails.trans ?_ (region_wp W 0 d Q)
  rw [pre0, post0]
  unfold ghost
  iintro ⟨Hb, Hd, Hl, ⟨Hg, Ht⟩, ⟨H0, H1, H3, H5, H6, H7⟩, Hk⟩
  ihave H0 := (two_halves _).1 $$ H0
  icases H0 with ⟨H0, H0'⟩
  ihave H1 := (two_halves _).1 $$ H1
  icases H1 with ⟨H1, H1'⟩
  isplitl [Hk]
  · iintro ⟨Hb, ⟨H0, H0', H1, H1', H3, H5, H6, H7⟩, Hd⟩
    iapply Hk
    isplitl [Hb]; · iexact Hb
    isplitl [Hd]; · iexact Hd
    isplitl [H0 H0']; · iapply (two_halves _).2; isplitl [H0] <;> iassumption
    isplitl [H1 H1']; · iapply (two_halves _).2; isplitl [H1] <;> iassumption
    isplitl [H3]; · iexact H3
    isplitl [H5]; · iexact H5
    isplitl [H6]; · iexact H6
    iexact H7
  isplitl [Hb]; · iexact Hb
  isplitr [Hl Hg Ht]
  · isplitr [Hd]
    · isplitl [H0]; · iexact H0
      isplitl [H0']; · iexact H0'
      isplitl [H1]; · iexact H1
      isplitl [H1']; · iexact H1'
      isplitl [H3]; · iexact H3
      isplitl [H5]; · iexact H5
      isplitl [H6]; · iexact H6
      iexact H7
    iexact Hd
  isplitl [Hl]; · iexact Hl
  isplitl [Hg]; · iexact Hg
  iexact Ht

/-- The second `_mlp` call likewise. -/
theorem call2 [∀ e, Nonempty (Elt F e)] (d : Dev nD) (Q : PUnit → sProp 𝕄) :
    iprop(boundary (SparseCore.T d : Thread nD τ) ∗ debt 1 d ∗ levAts (K (F := F)).L (K (F := F)).lev ∗ ghost 1 d
        ∗ ((hbm d main_v0 ↦{fullShare} W 1 d main_v0) ∗ (hbm d main_v1 ↦{fullShare} W 1 d main_v1) ∗ (hbm d main_v3 ↦{fullShare} W 1 d main_v3)
          ∗ (hbm d main_v5 ↦{fullShare} W 1 d main_v5) ∗ (hbm d main_v6 ↦{fullShare} W 1 d main_v6) ∗ (hbm d main_v19 ↦{fullShare} W 1 d main_v19))
        ∗ ((boundary (SparseCore.T d : Thread nD τ) ∗ debt 1 d
            ∗ ((hbm d main_v0 ↦{fullShare} W 1 d main_v0) ∗ (hbm d main_v1 ↦{fullShare} W 1 d main_v1) ∗ (hbm d main_v3 ↦{fullShare} W 1 d main_v3)
              ∗ (hbm d main_v5 ↦{fullShare} W 1 d main_v5) ∗ (hbm d main_v6 ↦{fullShare} W 1 d main_v6) ∗ (hbm d main_v19 ↦{fullShare} (dat2 W d).arrAt 7 cfg2.N)))
          -∗ Q ⟨⟩))
      ⊢ wp frame (wpE ((K (F := F)).defs (D (F := F))) 𝒱 (SparseCore.T d) none) Set.univ
          (Prog.lift (.customCall (SparseCore.inner (Pipeline.entry 1)) ())) Q := by
  refine BIBase.Entails.trans ?_ (region_wp W 1 d Q)
  rw [pre2, post2]
  unfold ghost
  iintro ⟨Hb, Hd, Hl, ⟨Hg, Ht⟩, ⟨H0, H1, H3, H5, H6, H7⟩, Hk⟩
  ihave H0 := (two_halves _).1 $$ H0
  icases H0 with ⟨H0, H0'⟩
  ihave H1 := (two_halves _).1 $$ H1
  icases H1 with ⟨H1, H1'⟩
  isplitl [Hk]
  · iintro ⟨Hb, ⟨H0, H0', H1, H1', H3, H5, H6, H7⟩, Hd⟩
    iapply Hk
    isplitl [Hb]; · iexact Hb
    isplitl [Hd]; · iexact Hd
    isplitl [H0 H0']; · iapply (two_halves _).2; isplitl [H0] <;> iassumption
    isplitl [H1 H1']; · iapply (two_halves _).2; isplitl [H1] <;> iassumption
    isplitl [H3]; · iexact H3
    isplitl [H5]; · iexact H5
    isplitl [H6]; · iexact H6
    iexact H7
  isplitl [Hb]; · iexact Hb
  isplitr [Hl Hg Ht]
  · isplitr [Hd]
    · isplitl [H0]; · iexact H0
      isplitl [H0']; · iexact H0'
      isplitl [H1]; · iexact H1
      isplitl [H1']; · iexact H1'
      isplitl [H3]; · iexact H3
      isplitl [H5]; · iexact H5
      isplitl [H6]; · iexact H6
      iexact H7
    iexact Hd
  isplitl [Hl]; · iexact Hl
  isplitl [Hg]; · iexact Hg
  iexact Ht

/-- The `_combine` call likewise. -/
theorem call4 [∀ e, Nonempty (Elt F e)] (d : Dev nD) (Q : PUnit → sProp 𝕄) :
    iprop(boundary (SparseCore.T d : Thread nD τ) ∗ debt 2 d ∗ levAts (K (F := F)).L (K (F := F)).lev ∗ ghost 2 d
        ∗ ((hbm d main_v18 ↦{fullShare} W 2 d main_v18) ∗ (hbm d main_v20 ↦{fullShare} W 2 d main_v20) ∗ (hbm d main_v21 ↦{fullShare} W 2 d main_v21))
        ∗ ((boundary (SparseCore.T d : Thread nD τ) ∗ debt 2 d ∗ (hbm d main_v21 ↦{fullShare} (dat4 W d).arrAt 2 cfg4.N)) -∗ Q ⟨⟩))
      ⊢ wp frame (wpE ((K (F := F)).defs (D (F := F))) 𝒱 (SparseCore.T d) none) Set.univ
          (Prog.lift (.customCall (SparseCore.inner (Pipeline.entry 2)) ())) Q := by
  have hpre : (seg W 2).pre d = iprop((dat4 W d).arrays ((dat4 W d).arrAt · 0) ∗ debt 2 d) := rfl
  have hpost : (seg W 2).post d = iprop((dat4 W d).arrays ((dat4 W d).arrAt · cfg4.N) ∗ debt 2 d) := rfl
  refine BIBase.Entails.trans ?_ (region_wp W 2 d Q)
  rw [hpre, hpost, arrays4, arrays4]
  unfold ghost
  iintro ⟨Hb, Hd, Hl, ⟨Hg, Ht⟩, ⟨H0, H1, H2⟩, Hk⟩
  isplitl [Hk]
  · iintro ⟨Hb, ⟨-, -, H2⟩, Hd⟩
    iapply Hk
    isplitl [Hb]; · iexact Hb
    isplitl [Hd]; · iexact Hd
    iexact H2
  isplitl [Hb]; · iexact Hb
  isplitr [Hl Hg Ht]
  · isplitr [Hd]
    · isplitl [H0]; · iexact H0
      isplitl [H1]; · iexact H1
      iexact H2
    iexact Hd
  isplitl [Hl]; · iexact Hl
  isplitl [Hg]; · iexact Hg
  iexact Ht

end Cert.KernelIdeal

end
-- ==== Proof.RunIdeal.lean ====
/-
  The run of the whole program: what its result holds, as one value, and that the arguments keep their contents.
-/
module

public import proofs.«01_k».proof.Proof.MainIdeal

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T S V)
open Idealize.ShloMosaic.SparseCore.Cfg (HIx)
open Idealize.ShloMosaic.StableHlo (held after)
open Idealize.ShloMosaic.Pipeline (Dat ucRefs)
open Cert.Proof

variable {F : FTy → Type} [FloatOps F]

local notation "𝕄" => MT nD τ sig (HIx 2) (Elt F) ℕ UU ℕ

/-- An array held with known contents is held with some. -/
theorem some_contents {ℓ : Loc nD τ sig} {I : Finset ℓ.2.ty.Idx} {q : PosShare TreeShare} (f : Buf (Elt F) ℓ) : (ℓ ↦[I]{q} f : sProp 𝕄) ⊢ iprop(∃ f, ℓ ↦[I]{q} f) := by
  iintro H; iexists f; iexact H

/-! ## What is given to the SparseCores and taken back -/

section

variable (h1 h3 : Dev nD → FVec F S32768x128 .f32) (v w : Dev nD → IVec S16 32)

/-- What the first SparseCore call takes is given to the tiles, -/
theorem give1 (d : Dev nD) (f : Buf (Elt F) (hbm d main_v18)) :
    (iprop((hbm d main_v18 ↦{fullShare} f) ∗ (hbm d main_v17 ↦{fullShare} h1 d) ∗ (hbm d main_v14 ↦{fullShare.left} v d) ∗ (hbm d main_v16 ↦{fullShare.left} w d)) : sProp 𝕄)
      ⊢ bigSep Finset.univ fun c : Fin ((K (F := F)).nCore 0) => (P h1 h3 v w).st 0 d c := by
  show _ ⊢ bigSep Finset.univ fun c : Fin ((K (F := F)).nCore 0) => bigSep Finset.univ fun s : Fin 16 => go h1 h3 v w 0 d (Fin.cast (cores 0) c) s
  rw [cores_all 0 (fun c => bigSep Finset.univ fun s : Fin 16 => go h1 h3 v w 0 d c s)]
  show _ ⊢ bigSep Finset.univ fun c : Fin 2 => bigSep Finset.univ fun s : Fin 16 => go1 h1 v w d c s
  unfold go1
  simp only [bigSep_sep']
  rw [rows1]
  refine BIBase.Entails.trans ?_ (BIClass.sep_mono (bigSep_mono fun c _ => bigSep_mono fun s _ => some_contents f) (BI.Entails.refl _))
  exact BIClass.sep_mono (BI.Entails.refl _) (BIClass.sep_mono (deal _ _) (BIClass.sep_mono (deal _ _) (deal _ _)))

/-- and its result is taken back from them. -/
theorem take1 (d : Dev nD) :
    (bigSep Finset.univ fun c : Fin ((K (F := F)).nCore 0) => (P h1 h3 v w).dn 0 d c) ⊢ (hbm d main_v18 ↦{fullShare} out1 (h1 d) (v d) (w d) : sProp 𝕄) := by
  show (bigSep Finset.univ fun c : Fin ((K (F := F)).nCore 0) => bigSep Finset.univ fun s : Fin 16 => td h1 h3 v w 0 d (Fin.cast (cores 0) c) s) ⊢ _
  rw [cores_all 0 (fun c => bigSep Finset.univ fun s : Fin 16 => td h1 h3 v w 0 d c s), rows1]
  exact BI.Entails.refl _

/-- What the second SparseCore call takes is given to the tiles, -/
theorem give3 (d : Dev nD) (f : Buf (Elt F) (hbm d main_v20)) :
    (iprop((hbm d main_v20 ↦{fullShare} f) ∗ (hbm d main_v19 ↦{fullShare} h3 d) ∗ (hbm d main_v14 ↦{fullShare.right} v d) ∗ (hbm d main_v16 ↦{fullShare.right} w d)) : sProp 𝕄)
      ⊢ bigSep Finset.univ fun c : Fin ((K (F := F)).nCore 1) => (P h1 h3 v w).st 1 d c := by
  show _ ⊢ bigSep Finset.univ fun c : Fin ((K (F := F)).nCore 1) => bigSep Finset.univ fun s : Fin 16 => go h1 h3 v w 1 d (Fin.cast (cores 1) c) s
  rw [cores_all 1 (fun c => bigSep Finset.univ fun s : Fin 16 => go h1 h3 v w 1 d c s)]
  show _ ⊢ bigSep Finset.univ fun c : Fin 2 => bigSep Finset.univ fun s : Fin 16 => go3 h3 v w d c s
  unfold go3
  simp only [bigSep_sep']
  rw [rows3]
  refine BIBase.Entails.trans ?_ (BIClass.sep_mono (bigSep_mono fun c _ => bigSep_mono fun s _ => some_contents f) (BI.Entails.refl _))
  exact BIClass.sep_mono (BI.Entails.refl _) (BIClass.sep_mono (deal _ _) (BIClass.sep_mono (deal _ _) (deal _ _)))

/-- and its result is taken back from them. -/
theorem take3 (d : Dev nD) :
    (bigSep Finset.univ fun c : Fin ((K (F := F)).nCore 1) => (P h1 h3 v w).dn 1 d c) ⊢ (hbm d main_v20 ↦{fullShare} out3 (h3 d) (v d) (w d) : sProp 𝕄) := by
  show (bigSep Finset.univ fun c : Fin ((K (F := F)).nCore 1) => bigSep Finset.univ fun s : Fin 16 => td h1 h3 v w 1 d (Fin.cast (cores 1) c) s) ⊢ _
  rw [cores_all 1 (fun c => bigSep Finset.univ fun s : Fin 16 => td h1 h3 v w 1 d c s), rows3]
  exact BI.Entails.refl _

end

/-! ## The contents along the run -/

section

variable (m : (ℓ : Loc nD τ sig) → Buf (Elt F) ℓ)

/-- What the arrays hold after the host's operations. -/
def V1 (d : Dev nD) : Valuation τ sig (Elt F) := after ops fun b => m (d, b)
/-- The arrays after the host operations, as the `_mlp` calls see them. -/
def W₁ : (p : Fin 3) → (c : Dev nD) → (b : Ref sig .tc) → Buf (Elt F) ((c : Thread nD τ).loc b) := fun _ c b => V1 m c (Proc.devRef .tc b)
/-- The features the two calls compute, -/
def H1 (d : Dev nD) : FVec F S32768x128 .f32 := (dat0 (W₁ m) d).arrAt 7 cfg0.N
/-- The second `_mlp` call's result. -/
def H3 (d : Dev nD) : FVec F S32768x128 .f32 := (dat2 (W₁ m) d).arrAt 7 cfg2.N
/-- where each segment begins and ends, -/
def Sv (d : Dev nD) : IVec S16 32 := V1 m d (Proc.devRef .tc main_v14)
/-- The segments' ends. -/
def Ev (d : Dev nD) : IVec S16 32 := V1 m d (Proc.devRef .tc main_v16)
/-- the tiles' maxima, -/
def M1 (d : Dev nD) : FVec F S32x16x64 .f32 := out1 (H1 m d) (Sv m d) (Ev m d)
/-- The second SparseCore call's result. -/
def M3 (d : Dev nD) : FVec F S32x16x64 .f32 := out3 (H3 m d) (Sv m d) (Ev m d)
/-- The arrays as the `_combine` call sees them. -/
def W₂ : (p : Fin 3) → (c : Dev nD) → (b : Ref sig .tc) → Buf (Elt F) ((c : Thread nD τ).loc b) := fun p c =>
  Function.update (Function.update (W₁ m p c) main_v18 (M1 m c)) main_v20 (M3 m c)
/-- and the result. -/
def R (d : Dev nD) : FVec F S16x64 .f32 := (dat4 (W₂ m) d).arrAt 2 cfg4.N

/-- The first table there is the first SparseCore call's result, -/
theorem W₂_v18 (p : Fin 3) (d : Dev nD) : W₂ m p d main_v18 = M1 m d := by
  unfold W₂
  rw [Function.update_of_ne (by decide), Function.update_self]
/-- the second is the second's, -/
theorem W₂_v20 (p : Fin 3) (d : Dev nD) : W₂ m p d main_v20 = M3 m d := by
  unfold W₂
  rw [Function.update_self]
/-- and the result is not touched yet. -/
theorem W₂_v21 (p : Fin 3) (d : Dev nD) : W₂ m p d main_v21 = W₁ m p d main_v21 := by
  unfold W₂
  rw [Function.update_of_ne (by decide), Function.update_of_ne (by decide)]

/-- What the host operations do not make, they keep. -/
theorem kept (d : Dev nD) (b : Ref sig .tc) (h : b ∉ made) : V1 m d (Proc.devRef .tc b) = m (hbm d b) :=
  StableHlo.after_of_writes_sub ops _ ops_writes h

/-- The arrays the run goes on with. -/
abbrev used : List (Ref sig .tc) := [main_arg0, main_arg1, main_arg2, main_arg3, main_arg4, main_v0, main_v1, main_v3, main_v5, main_v6, main_v14, main_v16,
  main_v17, main_v18, main_v19, main_v20, main_v21]

/-- The arrays the run goes on with are among the unscoped ones. -/
theorem used_sub : (used.map (Proc.devRef (τ := τ) .tc)).toFinset ⊆ ucRefs τ sig := fun b hb => by
  obtain ⟨r, hr, rfl⟩ := List.mem_map.mp (List.mem_toFinset.mp hb)
  have hs : ∀ r ∈ used, r.isScoped = false := by decide
  exact Finset.mem_filter.mpr ⟨StableHlo.devRef_mem_tcRefs _, fun h' => Bool.false_ne_true ((hs r hr).symm.trans h')⟩

/-- They are taken out of all the unscoped ones. -/
theorem take_used (d : Dev nD) (X : Valuation τ sig (Elt F)) :
    (held (SparseCore.T d : Thread nD τ) (ucRefs τ sig) X : sProp 𝕄)
      ⊢ iprop((hbm d main_arg0 ↦{fullShare} X (Proc.devRef .tc main_arg0)) ∗ (hbm d main_arg1 ↦{fullShare} X (Proc.devRef .tc main_arg1)) ∗ (hbm d main_arg2 ↦{fullShare} X (Proc.devRef .tc main_arg2)) ∗ (hbm d main_arg3 ↦{fullShare} X (Proc.devRef .tc main_arg3)) ∗ (hbm d main_arg4 ↦{fullShare} X (Proc.devRef .tc main_arg4)) ∗ (hbm d main_v0 ↦{fullShare} X (Proc.devRef .tc main_v0)) ∗ (hbm d main_v1 ↦{fullShare} X (Proc.devRef .tc main_v1)) ∗ (hbm d main_v3 ↦{fullShare} X (Proc.devRef .tc main_v3)) ∗ (hbm d main_v5 ↦{fullShare} X (Proc.devRef .tc main_v5)) ∗ (hbm d main_v6 ↦{fullShare} X (Proc.devRef .tc main_v6)) ∗ (hbm d main_v14 ↦{fullShare} X (Proc.devRef .tc main_v14)) ∗ (hbm d main_v16 ↦{fullShare} X (Proc.devRef .tc main_v16)) ∗ (hbm d main_v17 ↦{fullShare} X (Proc.devRef .tc main_v17)) ∗ (hbm d main_v18 ↦{fullShare} X (Proc.devRef .tc main_v18)) ∗ (hbm d main_v19 ↦{fullShare} X (Proc.devRef .tc main_v19)) ∗ (hbm d main_v20 ↦{fullShare} X (Proc.devRef .tc main_v20)) ∗ (hbm d main_v21 ↦{fullShare} X (Proc.devRef .tc main_v21))) := by
  rw [StableHlo.held_sub_split _ used_sub]
  refine sep_elim_left.trans ?_
  unfold held
  rw [bigSep_eq_bigSepL _ (List.Nodup.map (Proc.devRef_injective _) (by decide))]
  exact BI.Entails.refl _

/-- The unscoped buffers are held as the host operations hold them. -/
theorem held_of_unscoped (d : Dev nD) (X : Valuation τ sig (Elt F)) :
    (unscopedBufs d (fun b => X (Proc.devRef .tc b)) : sProp 𝕄) = held (SparseCore.T d : Thread nD τ) (ucRefs τ sig) X := by
  unfold unscopedBufs held ucRefs StableHlo.tcRefs
  rw [Finset.filter_map, bigSep_map]
  rfl

/-! ## The TensorCore's program -/

variable (ρ : Dev nD → PrngReg)

/-- What the TensorCore holds between calls apart from its debts. -/
def rest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- The TensorCore's state is what it owes and the rest. -/
theorem tcSt_eq (d : Dev nD) (n : ℕ) : ((K (F := F)).tcSt EH d n : sProp 𝕄) = iprop(debt (F := F) n d ∗ rest (F := F) d n) := rfl

/-- What is kept of the memory at the end: the arguments, and the result. -/
def FIN (d : Dev nD) : sProp 𝕄 :=
  iprop((hbm d main_arg0 ↦{fullShare} m (hbm d main_arg0)) ∗ (hbm d main_arg1 ↦{fullShare} m (hbm d main_arg1)) ∗ (hbm d main_arg2 ↦{fullShare} m (hbm d main_arg2))
    ∗ (hbm d main_arg3 ↦{fullShare} m (hbm d main_arg3)) ∗ (hbm d main_arg4 ↦{fullShare} m (hbm d main_arg4)) ∗ (hbm d main_v21 ↦{fullShare} R m d))

/-- Three parts, one by one. -/
theorem three (Φ : Fin 3 → sProp 𝕄) : bigSep Finset.univ Φ = iprop(Φ 0 ∗ Φ 1 ∗ Φ 2) :=
  bigSep_univ_eq_bigSepL [(0 : Fin 3), 1, 2] (by decide) (by decide) Φ

/-- The pipelined calls' ghost state, call by call. -/
theorem ghosts (d : Dev nD) : (G d : sProp 𝕄) ⊢ iprop(ghost 0 d ∗ ghost 1 d ∗ ghost 2 d) := by
  unfold G ghost
  rw [three, three]
  iintro ⟨⟨A0, A1, A2⟩, B0, B1, B2⟩
  isplitl [A0 B0]; · isplitl [A0] <;> iassumption
  isplitl [A1 B1]; · isplitl [A1] <;> iassumption
  isplitl [A2] <;> iassumption

/-- The program on the TensorCore runs to its end, its arguments unchanged, its result `R`. -/
theorem hmain [∀ e, Nonempty (Elt F e)] (κ : GSem nD τ sig → ℕ) (d : Dev nD) :
    iprop((K (F := F)).ctx EH (P (H1 m) (H3 m) (Sv m) (Ev m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  have hstart : (unscopedBufs d (fun b => m ((SparseCore.T d : Thread nD τ).loc b)) : sProp 𝕄) = held (SparseCore.T d : Thread nD τ) (ucRefs τ sig) (fun b => m (d, b)) :=
    held_of_unscoped d fun b => m (d, b)
  unfold SparseCore.Cfg.tcRes SparseCore.Cfg.tcEnd
  rw [main_eq, tcSt_eq, tcSt_eq]
  iintro ⟨#Hctx, ⟨Hd, Hr⟩, ⟨Hb, Hu, Hts, -⟩, HG⟩
  ihave #Hl := (SparseCore.Cfg.ctx_levAts κ) $$ Hctx
  ihave HG := (ghosts d) $$ HG
  icases HG with ⟨G0, G1, G2⟩
  ihave Hu := (Entails.of_eq hstart) $$ Hu
  iapply (StableHlo.wp_seq 𝒱 none Set.univ d (ucRefs τ sig) (fun _ => calls d) ops ops_sub ops_fresh (fun b => m (d, b))) $$ [Hb Hu]
  · isplitl [Hb] <;> iassumption
  iintro ⟨Hb, Hu⟩
  ihave Hu := (take_used d _) $$ Hu
  icases Hu with ⟨A0, A1, A2, A3, A4, X0, X1, X3, X5, X6, X14, X16, X17, X18, X19, X20, X21⟩
  have keep (b : Ref sig .tc) (h : b ∉ made) : (hbm d b ↦{fullShare} after ops (fun b => m (d, b)) (Proc.devRef .tc b) : sProp 𝕄) ⊢ (hbm d b ↦{fullShare} m (hbm d b)) :=
    Entails.of_eq (congrArg (fun f => (hbm d b ↦{fullShare} f : sProp 𝕄)) (kept m d b h))
  ihave A0 := (keep main_arg0 (by decide)) $$ A0
  ihave A1 := (keep main_arg1 (by decide)) $$ A1
  ihave A2 := (keep main_arg2 (by decide)) $$ A2
  ihave A3 := (keep main_arg3 (by decide)) $$ A3
  ihave A4 := (keep main_arg4 (by decide)) $$ A4
  ihave X14 := (two_halves _).1 $$ X14
  icases X14 with ⟨X14, X14'⟩
  ihave X16 := (two_halves _).1 $$ X16
  icases X16 with ⟨X16, X16'⟩
  simp only [calls, wp_bind, wp_pure]
  -- the features of rows 0 to 32767 and 65536 to 98303
  iapply (call0 (W₁ m) d _)
  isplitl [Hb]; · iexact Hb
  isplitl [Hd]; · iexact Hd
  isplitr; · iexact Hl
  isplitl [G0]; · iexact G0
  isplitl [X0 X1 X3 X5 X6 X17]
  · isplitl [X0]; · iexact X0
    isplitl [X1]; · iexact X1
    isplitl [X3]; · iexact X3
    isplitl [X5]; · iexact X5
    isplitl [X6]; · iexact X6
    iexact X17
  iintro ⟨Hb, Hd, X0, X1, X3, X5, X6, X17⟩
  -- their maxima
  iapply ((K (F := F)).wp_run (D (F := F)) 𝒱 (EH := EH) (P := P (H1 m) (H3 m) (Sv m) (Ev m)) κ d 0)
  isplitr; · iexact Hctx
  isplitl [Hd Hr]
  · iapply (Entails.of_eq (tcSt_eq d 0).symm)
    isplitl [Hd] <;> iassumption
  isplitl [X18 X17 X14 X16]
  · iapply (give1 (H1 m) (H3 m) (Sv m) (Ev m) d _)
    isplitl [X18]; · iexact X18
    isplitl [X17]; · iexact X17
    isplitl [X14]; · iexact X14
    iexact X16
  iintro ⟨Hst, Hdn⟩
  ihave Hst := (Entails.of_eq (show ((K (F := F)).tcSt EH d ((0 : Fin 2).val + 1) : sProp 𝕄) = iprop(debt (F := F) 1 d ∗ rest (F := F) d 1) from tcSt_eq d 1)) $$ Hst
  icases Hst with ⟨Hd, Hr⟩
  ihave X18 := (take1 (H1 m) (H3 m) (Sv m) (Ev m) d) $$ Hdn
  -- the features of the other rows
  iapply (call2 (W₁ m) d _)
  isplitl [Hb]; · iexact Hb
  isplitl [Hd]; · iexact Hd
  isplitr; · iexact Hl
  isplitl [G1]; · iexact G1
  isplitl [X0 X1 X3 X5 X6 X19]
  · isplitl [X0]; · iexact X0
    isplitl [X1]; · iexact X1
    isplitl [X3]; · iexact X3
    isplitl [X5]; · iexact X5
    isplitl [X6]; · iexact X6
    iexact X19
  iintro ⟨Hb, Hd, -, -, -, -, -, X19⟩
  -- their maxima
  iapply ((K (F := F)).wp_run (D (F := F)) 𝒱 (EH := EH) (P := P (H1 m) (H3 m) (Sv m) (Ev m)) κ d 1)
  isplitr; · iexact Hctx
  isplitl [Hd Hr]
  · iapply (Entails.of_eq (tcSt_eq d 1).symm)
    isplitl [Hd] <;> iassumption
  isplitl [X20 X19 X14' X16']
  · iapply (give3 (H1 m) (H3 m) (Sv m) (Ev m) d _)
    isplitl [X20]; · iexact X20
    isplitl [X19]; · iexact X19
    isplitl [X14']; · iexact X14'
    iexact X16'
  iintro ⟨Hst, Hdn⟩
  ihave Hst := (Entails.of_eq (show ((K (F := F)).tcSt EH d ((1 : Fin 2).val + 1) : sProp 𝕄) = iprop(debt (F := F) 2 d ∗ rest (F := F) d 2) from tcSt_eq d 2)) $$ Hst
  icases Hst with ⟨Hd, Hr⟩
  ihave X20 := (take3 (H1 m) (H3 m) (Sv m) (Ev m) d) $$ Hdn
  -- all maxima joined
  iapply (call4 (W₂ m) d _)
  isplitl [Hb]; · iexact Hb
  isplitl [Hd]; · iexact Hd
  isplitr; · iexact Hl
  isplitl [G2]; · iexact G2
  isplitl [X18 X20 X21]
  · isplitl [X18]; · iapply (Entails.of_eq (congrArg (fun f => (hbm d main_v18 ↦{fullShare} f : sProp 𝕄)) (W₂_v18 m 2 d).symm)); iexact X18
    isplitl [X20]; · iapply (Entails.of_eq (congrArg (fun f => (hbm d main_v20 ↦{fullShare} f : sProp 𝕄)) (W₂_v20 m 2 d).symm)); iexact X20
    iapply (Entails.of_eq (congrArg (fun f => (hbm d main_v21 ↦{fullShare} f : sProp 𝕄)) (W₂_v21 m 2 d).symm)); iexact X21
  iintro ⟨Hb, Hd, X21⟩
  imodintro
  isplitl [Hd Hr]; · isplitl [Hd] <;> iassumption
  isplitr [Hb Hts]
  · unfold FIN
    isplitl [A0]; · iexact A0
    isplitl [A1]; · iexact A1
    isplitl [A2]; · iexact A2
    isplitl [A3]; · iexact A3
    isplitl [A4]; · iexact A4
    iexact X21
  isplitl [Hb] <;> iassumption

/-! ## The run -/

/-- What holds of device `d`'s memory at the end: the arguments as they were, the result as computed. -/
def final (d : Dev nD) (s' : Phys nD τ sig (Elt F)) : Prop :=
  s'.mem.mem (hbm d main_arg0) = m (hbm d main_arg0) ∧ s'.mem.mem (hbm d main_arg1) = m (hbm d main_arg1) ∧ s'.mem.mem (hbm d main_arg2) = m (hbm d main_arg2)
    ∧ s'.mem.mem (hbm d main_arg3) = m (hbm d main_arg3) ∧ s'.mem.mem (hbm d main_arg4) = m (hbm d main_arg4) ∧ s'.mem.mem (hbm d main_v21) = R m d

/-- An array held in full has, in the memory, the contents it is held with. -/
theorem agree (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s') := by
  iintro ⟨HS, H⟩
  ihave H := (persistent_entails_right (SI_pointsTo_agree (st := s') (ℓ := ℓ) (I := Finset.univ) (q := fullShare) (f := f))) $$ [HS H]
  · isplitl [HS] <;> iassumption
  icases H with ⟨%h, HS, -⟩
  isplitr; · ipureintro; exact funext fun i => h i (Finset.mem_univ i)
  iexact HS

/-- What is held at the end says what the memory is. -/
theorem hfin (d : Dev nD) (s' : Phys nD τ sig (Elt F)) : iprop(FIN m d ∗ SI s') ⊢ (⌜final m d s'⌝ : sProp 𝕄) := by
  unfold FIN
  iintro ⟨⟨A0, A1, A2, A3, A4, X⟩, HS⟩
  ihave H := (agree s' _ _) $$ [HS A0]; · isplitl [HS] <;> iassumption
  icases H with ⟨%h0, HS⟩
  ihave H := (agree s' _ _) $$ [HS A1]; · isplitl [HS] <;> iassumption
  icases H with ⟨%h1, HS⟩
  ihave H := (agree s' _ _) $$ [HS A2]; · isplitl [HS] <;> iassumption
  icases H with ⟨%h2, HS⟩
  ihave H := (agree s' _ _) $$ [HS A3]; · isplitl [HS] <;> iassumption
  icases H with ⟨%h3, HS⟩
  ihave H := (agree s' _ _) $$ [HS A4]; · isplitl [HS] <;> iassumption
  icases H with ⟨%h4, HS⟩
  ihave H := (agree s' _ _) $$ [HS X]; · isplitl [HS] <;> iassumption
  icases H with ⟨%h5, -⟩
  ipureintro; exact ⟨h0, h1, h2, h3, h4, h5⟩

/-- The whole run's postcondition. -/
def Done (r : PUnit × MemSt nD τ sig (Elt F)) : Prop :=
  (∀ d : Dev nD, r.2.mem (hbm d main_arg0) = m (hbm d main_arg0) ∧ r.2.mem (hbm d main_arg1) = m (hbm d main_arg1) ∧ r.2.mem (hbm d main_arg2) = m (hbm d main_arg2)
    ∧ r.2.mem (hbm d main_arg3) = m (hbm d main_arg3) ∧ r.2.mem (hbm d main_arg4) = m (hbm d main_arg4) ∧ r.2.mem (hbm d main_v21) = R m d) ∧ r.2.sem = fun _ => 0

/-- The program runs to its end from any memory, its arguments unchanged, its result `R`, every semaphore at zero. -/
theorem run_main [∀ e, Nonempty (Elt F e)] : θ_run (defs (F := F)) (threads (F := F)) ⟨m, fun _ => 0, ρ⟩ (Done m) :=
  SparseCore.Cfg.θ_run_sc_quiescent (K := K (F := F)) (D := D (F := F)) (𝒱 := 𝒱) (EH := EH) (P := P (H1 m) (H3 m) (Sv m) (Ev m)) (A := ∅) facts v₀
    (fun q hq => match q with | 0 => nomatch hq | 1 => nomatch hq)
    (fun q _ => match q with | 0 => tileObl1 _ _ _ _ | 1 => tileObl3 _ _ _ _)
    (fun q _ => SparseCore.Cfg.VecSplit.of_plain (vecSplit _ _ _ _ q))
    m ρ main (fun d => G d) (FIN m) (u₀ (F := F)) (sep_elim_left.trans (hu₀ _ _ _ _)) (hmain m ρ) (final m) (hfin m) (Done m) (fun _ h hz => ⟨h, hz⟩)

end

end Cert.KernelIdeal

end
-- ==== Proof.Sorted.lean ====
/-
  The precondition read: the ids are sorted, and each is below sixteen.
-/
module

public import proofs.«01_k».proof.Pre_batch_sorted
public import Idealize.ShloMosaic.Lib.Pointwise
public import Idealize.ShloMosaic.Lib.IndicatorCount

@[expose] public section

noncomputable section

namespace Cert.Pre_batch_sorted

open Idealize.ShloMosaic

/-- The shape relations the precondition states. -/
theorem facts : Facts := ⟨by decide, by decide, by decide⟩

attribute [local instance] facts

variable (x : FVec Ideal S131072x61 .f32) (p : FVec Ideal S131072x3 .f32) (W : FVec Ideal S64x64 .f32) (b : FVec Ideal S64 .f32) (t : IVec S131072 32)

/-- The precondition's first array compares neighbouring ids, -/
theorem fst_apply (i : Fin 131071) : (fn x p W b t).1 (ix1 i) = IntOp.cmpi .sge (t (ix1 ⟨1 + i.val, by omega⟩)) (t (ix1 ⟨i.val, by omega⟩)) := by
  pointwise [fn]

/-- and its second an id with sixteen. -/
theorem snd_apply (i : Fin 131072) : (fn x p W b t).2 (ix1 i) = IntOp.cmpi .slt (t (ix1 i)) 16#32 := by
  pointwise [fn]

/-- What the first comparison says of two words, -/
theorem sge_word (a b : BitVec 32) (h : IntOp.cmpi .sge a b = 1#1) : b.toInt ≤ a.toInt := by
  rw [show IntOp.cmpi .sge a b = BitVec.ofBool (b.sle a) from rfl, BitVec.sle] at h
  by_contra hn
  rw [decide_eq_false hn] at h
  exact absurd h (by decide)

/-- and the second of one. -/
theorem slt_word (a : BitVec 32) (h : IntOp.cmpi .slt a 16#32 = 1#1) : a.toInt < 16 := by
  rw [show IntOp.cmpi .slt a 16#32 = BitVec.ofBool (a.slt 16#32) from rfl, BitVec.slt] at h
  by_contra hn
  rw [decide_eq_false (p := a.toInt < (16#32 : BitVec 32).toInt) hn] at h
  exact absurd h (by decide)

/-- The ids are sorted, -/
theorem sorted (h : (fn x p W b t).1 = fun _ => 1#1) : Monotone fun g : Fin 131072 => (t (ix1 g)).toInt := by
  refine Fin.monotone_iff_le_succ.2 fun i => ?_
  have := sge_word _ _ ((fst_apply x p W b t i).symm.trans (congrFun h _))
  refine this.trans (le_of_eq ?_)
  exact congrArg (fun g : Fin 131072 => (t (ix1 g)).toInt) (Fin.ext (Nat.add_comm _ _))

/-- and each is below sixteen. -/
theorem below16 (h : (fn x p W b t).2 = fun _ => 1#1) (g : Fin 131072) : (t (ix1 g)).toInt < 16 :=
  slt_word _ ((snd_apply x p W b t g).symm.trans (congrFun h _))

end Cert.Pre_batch_sorted

end
-- ==== Proof.Frames.lean ====
/-
  The frames: each program runs to its end, its arguments unchanged, every semaphore back at zero.
-/
module

public import proofs.«01_k».proof.Defs
public import proofs.«01_k».proof.Proof.Run
public import proofs.«01_k».proof.Proof.RunIdeal
public import proofs.«01_k».proof.Proof.Gen.ReferenceIdeal.Run
public import proofs.«01_k».proof.Proof.Sorted

@[expose] public section

noncomputable section

namespace Cert.Proof

open Idealize.ShloMosaic Idealize.SL.Sem

/-- The kernel at its own floats: the run with the result's value left out. -/
theorem frame_Kernel : quiescent_Kernel (hKernel := Cert.Kernel.Gen.facts) := fun m g _ =>
  (θ_run (Cert.Kernel.defs (F := Bits)) _ _).mono
    (fun _ h => ⟨fun c => ⟨(h.1 c).1, (h.1 c).2.1, (h.1 c).2.2.1, (h.1 c).2.2.2.1, (h.1 c).2.2.2.2.1⟩, h.2⟩) (Cert.Kernel.run_main m g)

/-- The kernel at the extended reals: the same run. -/
theorem frame_KernelIdeal : quiescent_KernelIdeal (hKernelIdeal := Cert.KernelIdeal.Gen.facts) := fun m g _ =>
  (θ_run (Cert.KernelIdeal.defs (F := Ideal)) _ _).mono
    (fun _ h => ⟨fun c => ⟨(h.1 c).1, (h.1 c).2.1, (h.1 c).2.2.1, (h.1 c).2.2.2.1, (h.1 c).2.2.2.2.1⟩, h.2⟩) (Cert.KernelIdeal.run_main m g)

/-- The reference at the extended reals: the run of its host operations; it has no semaphore. -/
theorem frame_ReferenceIdeal : quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run m g)

/-- The last two hold in particular of sorted ids. -/
theorem frame_KernelIdeal_sorted : quiescent_KernelIdeal_pre_batch_sorted (hKernelIdeal := Cert.KernelIdeal.Gen.facts) (hPre_batch_sorted := Cert.Pre_batch_sorted.facts) :=
  fun m g _ => frame_KernelIdeal m g trivial
/-- The reference's frame likewise. -/
theorem frame_ReferenceIdeal_sorted : quiescent_ReferenceIdeal_pre_batch_sorted (hReferenceIdeal := Cert.ReferenceIdeal.Gen.facts) (hPre_batch_sorted := Cert.Pre_batch_sorted.facts) :=
  fun m g _ => frame_ReferenceIdeal m g trivial

end Cert.Proof

end
-- ==== Proof.Feat.lean ====
/-
  The features of a row, as both programs compute them, and two facts the segments' bounds rest on: how many ids lie
  below a segment, and which rows lie between two such counts when the ids are sorted.
-/
module

public import Idealize.ShloMosaic.Lib.Pointwise
public import Idealize.ShloMosaic.Lib.IndicatorCount

@[expose] public section

noncomputable section

namespace Cert.Proof

open Idealize.ShloMosaic
open scoped BigOperators

/-- The float word of minus infinity. -/
theorem word_bot : (Ideal.ofBits .f32 0xFF800000#32 : EReal) = ⊥ := by simp [Ideal.ofBits, Ideal.ieee]

/-- A segment's number, as a word, reads as itself. -/
theorem word_toInt (s : Fin 16) : (BitVec.ofNat 32 s.val).toInt = s.val := by revert s; decide

/-- An id word is a segment's exactly when it reads as the segment's number, -/
theorem eq_word (x : BitVec 32) (s : Fin 16) : IntOp.cmpi .eq x (BitVec.ofNat 32 s.val) = 1#1 ↔ x.toInt = s.val := by
  rw [show IntOp.cmpi .eq x (BitVec.ofNat 32 s.val) = BitVec.ofBool (x == BitVec.ofNat 32 s.val) from rfl, ← word_toInt s, BitVec.toInt_inj]
  rcases hb : (x == BitVec.ofNat 32 s.val) with _ | _
  · exact ⟨fun h => absurd h (by decide), fun h => by rw [h, beq_self_eq_true] at hb; exact absurd hb (by decide)⟩
  · exact ⟨fun _ => eq_of_beq hb, fun _ => rfl⟩

/-- and lies below it exactly when it reads as less. -/
theorem lt_word (x : BitVec 32) (s : Fin 16) : IntOp.cmpi .slt x (BitVec.ofNat 32 s.val) = 1#1 ↔ x.toInt < s.val := by
  rw [show IntOp.cmpi .slt x (BitVec.ofNat 32 s.val) = BitVec.ofBool (x.slt (BitVec.ofNat 32 s.val)) from rfl, ← word_toInt s, BitVec.slt]
  by_cases h : x.toInt < (BitVec.ofNat 32 s.val).toInt <;> simp [h]

/-- Feature `j` of row `g`: the row and its position against the weights, the bias added, nothing below zero. -/
def feat (x : FVec Ideal ⟨2, ![131072, 61]⟩ .f32) (p : FVec Ideal ⟨2, ![131072, 3]⟩ .f32) (W : FVec Ideal ⟨2, ![64, 64]⟩ .f32)
    (b : FVec Ideal ⟨1, ![64]⟩ .f32) (g : Fin 131072) (j : Fin 64) : EReal :=
  max ((∑ k : Fin 61, (x (ix2 g k) : EReal) * W (ix2 j (Fin.castAdd 3 k))) + (∑ k : Fin 3, (p (ix2 g k) : EReal) * W (ix2 j (Fin.natAdd 61 k))) + b (ix1 j)) 0

/-- How many of the ids lie below `t`. -/
def below (t : Fin 131072 → Int) (s : Int) : Nat := (Finset.univ.filter fun g => t g < s).card

/-- At most all ids lie below. -/
theorem below_le (t : Fin 131072 → Int) (s : Int) : below t s ≤ 131072 := by
  unfold below
  exact (Finset.card_le_univ _).trans (by simp)

/-- Of sorted ids, the first ones are those below. -/
theorem mem_below {t : Fin 131072 → Int} (ht : Monotone t) (g : Fin 131072) (s : Int) : g.val < below t s ↔ t g < s := by
  unfold below
  constructor
  · intro h
    by_contra hn
    have : (Finset.univ.filter fun i => t i < s) ⊆ Finset.Iio g := fun i hi => by
      rw [Finset.mem_filter] at hi
      rw [Finset.mem_Iio]
      by_contra hg
      have := ht (not_lt.1 hg)
      omega
    have := Finset.card_le_card this
    rw [Fin.card_Iio] at this
    omega
  · intro h
    have : Finset.Iic g ⊆ Finset.univ.filter fun i => t i < s := fun i hi => by
      rw [Finset.mem_Iic] at hi
      rw [Finset.mem_filter]
      exact ⟨Finset.mem_univ _, lt_of_le_of_lt (ht hi) h⟩
    have := Finset.card_le_card this
    rw [Fin.card_Iic] at this
    omega

/-- Sorted ids: the rows from the count below a segment on to the count below the next are the segment's own. -/
theorem between_iff {t : Fin 131072 → Int} (ht : Monotone t) (g : Fin 131072) (s : Int) : (below t s ≤ g.val ∧ g.val < below t (s + 1)) ↔ t g = s := by
  rw [← not_lt, mem_below ht, mem_below ht]
  omega

end Cert.Proof

end
-- ==== Proof.RefValue.lean ====
/-
  The reference's result at the extended reals: a number bounds a segment's maximum of a feature exactly when it bounds
  that feature of every row with the segment's id.
-/
module

public import proofs.«01_k».proof.Proof.Gen.ReferenceIdeal.Run
public import proofs.«01_k».proof.Proof.Feat

@[expose] public section

noncomputable section

namespace Cert.ReferenceIdeal

open Idealize.ShloMosaic Cert.ReferenceIdeal.Gen Cert.Proof
open scoped BigOperators

/-- The features of every row, as the reference computes them. -/
def feats (x : FVec Ideal S131072x61 .f32) (p : FVec Ideal S131072x3 .f32) (W : FVec Ideal S64x64 .f32) (b : FVec Ideal S64 .f32) : FVec Ideal S131072x64 .f32 :=
  maximumf (addf (Host.dotGeneral dot_S131072x64_S64x64_S131072x64_1_0_0_1_n_n none (concatenate S131072x64 1 [⟨S131072x61, x⟩, ⟨S131072x3, p⟩] concatenates_S131072x61_S131072x3_S131072x64_d1) (transpose S64x64 [1, 0] W transposes_S64x64_S64x64_1_0)) (broadcastInDim S131072x64 ![0, 1] bcast_S1x64_S131072x64_0_1 (broadcastInDim S1x64 ![1] bcast_S64_S1x64_1 b))) (broadcastInDim S131072x64 ![] bcast_S_S131072x64 (constant S_ .f32 0x00000000#32))

/-- Which rows have a segment's id. -/
def mask (t : IVec S131072 32) : IVec S131072x16 1 :=
  cmpi .eq (broadcastInDim S131072x16 ![0, 1] bcast_S131072x1_S131072x16_0_1 (broadcastInDim S131072x1 ![0] bcast_S131072_S131072x1_0 t)) (broadcastInDim S131072x16 ![0, 1] bcast_S1x16_S131072x16_0_1 (broadcastInDim S1x16 ![1] bcast_S16_S1x16_1 (iotaInDim S16 32 0)))

/-- A row's feature where the row has the segment's id, minus infinity elsewhere. -/
def picked (f : FVec Ideal S131072x64 .f32) (q : IVec S131072x16 1) : FVec Ideal S131072x16x64 .f32 :=
  select (broadcastInDim S131072x16x64 ![0, 1, 2] bcast_S131072x16x1_S131072x16x64_0_1_2 (broadcastInDim S131072x16x1 ![0, 1] bcast_S131072x16_S131072x16x1_0_1 q)) (broadcastInDim S131072x16x64 ![0, 1, 2] bcast_S131072x1x64_S131072x16x64_0_1_2 (broadcastInDim S131072x1x64 ![0, 2] bcast_S131072x64_S131072x1x64_0_2 f)) (broadcastInDim S131072x16x64 ![] bcast_S_S131072x16x64 (id (constant S_ .f32 0xFF800000#32)))

/-- The reference's result. -/
def result (x : FVec Ideal S131072x61 .f32) (p : FVec Ideal S131072x3 .f32) (W : FVec Ideal S64x64 .f32) (b : FVec Ideal S64 .f32) (t : IVec S131072 32) : FVec Ideal S16x64 .f32 :=
  Host.reduce FloatOps.maximumf (picked (feats x p W b) (mask t)) (constant S_ .f32 0xFF800000#32) reducesTo_S131072x16x64_S16x64_d0 h_S_

/-- The reference's features, element by element. -/
theorem feats_apply (x : FVec Ideal S131072x61 .f32) (p : FVec Ideal S131072x3 .f32) (W : FVec Ideal S64x64 .f32) (b : FVec Ideal S64 .f32)
    (g : Fin 131072) (j : Fin 64) : feats x p W b (ix2 g j) = feat x p W b g j := by
  pointwise [feats]
  rfl

/-- The mask compares a row's id with a segment's number. -/
theorem mask_apply (t : IVec S131072 32) (g : Fin 131072) (s : Fin 16) : mask t (ix2 g s) = IntOp.cmpi .eq (t (ix1 g)) (BitVec.ofNat 32 s.val) := by
  pointwise [mask]

/-- The picked feature, element by element. -/
theorem picked_apply (f : FVec Ideal S131072x64 .f32) (q : IVec S131072x16 1) (g : Fin 131072) (s : Fin 16) (j : Fin 64) :
    picked f q (ix3 g s j) = if q (ix2 g s) = 1#1 then f (ix2 g j) else (⊥ : EReal) := by
  pointwise [picked]
  show (if q (ix2 g s) = 1#1 then f (ix2 g j) else (Ideal.ofBits .f32 0xFF800000#32 : EReal)) = _
  rw [word_bot]

/-- A number bounds the reference's entry exactly when it bounds the feature in every row of the segment. -/
theorem result_le (x : FVec Ideal S131072x61 .f32) (p : FVec Ideal S131072x3 .f32) (W : FVec Ideal S64x64 .f32) (b : FVec Ideal S64 .f32) (t : IVec S131072 32)
    (s : Fin 16) (j : Fin 64) (z : EReal) :
    (result x p W b t (ix2 s j) : EReal) ≤ z ↔ ∀ g : Fin 131072, (t (ix1 g)).toInt = s.val → feat x p W b g j ≤ z := by
  pointwise [result]
  rw [word_bot, Finset.fold_max_le]
  refine ⟨fun h g hg => ?_, fun h => ⟨bot_le, fun g _ => ?_⟩⟩
  · have := h.2 g (Finset.mem_univ _)
    rwa [picked_apply, mask_apply, if_pos ((eq_word (t (ix1 g)) s).2 hg), feats_apply] at this
  · rw [picked_apply, mask_apply]
    split
    · next hg => rw [feats_apply]; exact h g ((eq_word (t (ix1 g)) s).1 hg)
    · exact bot_le

end Cert.ReferenceIdeal

end
-- ==== Proof.HostIdeal.lean ====
/-
  What the kernel's host operations leave in the arrays the calls read, at an index: the transposed rows, positions and
  weights, and where each segment begins and ends.
-/
module

public import proofs.«01_k».proof.Proof.RunIdeal
public import proofs.«01_k».proof.Proof.Feat

@[expose] public section

noncomputable section

namespace Cert.KernelIdeal

open Idealize.ShloMosaic Idealize.ShloMosaic.TcCoe Idealize.ShloMosaic.StableHlo Cert.KernelIdeal.Gen Cert.Proof
open Idealize.ShloMosaic.SparseCore (T)
open scoped BigOperators

variable (m : (ℓ : Loc nD τ sig) → Buf (Elt Ideal) ℓ) (d : Dev nD)

/-- The five arguments on a device. -/
def xOf : FVec Ideal S131072x61 .f32 := m ((d.tc : Thread nD τ).loc main_arg0)
/-- The positions, -/
def pOf : FVec Ideal S131072x3 .f32 := m ((d.tc : Thread nD τ).loc main_arg1)
/-- the weights, -/
def wOf : FVec Ideal S64x64 .f32 := m ((d.tc : Thread nD τ).loc main_arg2)
/-- the bias, -/
def bOf : FVec Ideal S64 .f32 := m ((d.tc : Thread nD τ).loc main_arg3)
/-- and the segment ids. -/
def tOf : IVec S131072 32 := m ((d.tc : Thread nD τ).loc main_arg4)

/-- The first call's rows are the transposed argument; -/
theorem v0_eq : V1 m d (Proc.devRef .tc main_v0) = transpose S61x131072 [1, 0] (xOf m d) transposes_S131072x61_S61x131072_1_0 := by
  unfold V1
  simp only [ops]
  after_results
  try rfl
/-- its positions likewise; -/
theorem v1_eq : V1 m d (Proc.devRef .tc main_v1) = transpose S3x131072 [1, 0] (pOf m d) transposes_S131072x3_S3x131072_1_0 := by
  unfold V1
  simp only [ops]
  after_results
  try rfl
/-- its weights are the first 61 columns, transposed; -/
theorem v3_eq : V1 m d (Proc.devRef .tc main_v3) = transpose S61x64 [1, 0] (extractStridedSlice S64x61 ![0, 0] (wOf m d) slices_S64x64_S64x61_0_0) transposes_S64x61_S61x64_1_0 := by
  unfold V1
  simp only [ops]
  after_results
  try rfl
/-- the positions' weights are the last three, transposed; -/
theorem v5_eq : V1 m d (Proc.devRef .tc main_v5) = transpose S3x64 [1, 0] (extractStridedSlice S64x3 ![0, 61] (wOf m d) slices_S64x64_S64x3_0_61) transposes_S64x3_S3x64_1_0 := by
  unfold V1
  simp only [ops]
  after_results
  try rfl
/-- the bias gets a leading axis. -/
theorem v6_eq : V1 m d (Proc.devRef .tc main_v6) = shapeCast S1x64 (bOf m d) shapeCasts_S64_S1x64 := by
  unfold V1
  simp only [ops]
  after_results
  try rfl

/-- How many ids lie below each segment, as the host counts them. -/
def counts (t : IVec S131072 32) : IVec S16 32 :=
  Host.reduce IntOp.addi (extui 32 (cmpi .slt (broadcastInDim S131072x16 ![0, 1] bcast_S131072x1_S131072x16_0_1 (broadcastInDim S131072x1 ![0] bcast_S131072_S131072x1_0 t))
    (broadcastInDim S131072x16 ![0, 1] bcast_S1x16_S131072x16_0_1 (broadcastInDim S1x16 ![1] bcast_S16_S1x16_1 (iotaInDim S16 32 0)))) natLt_1_32) (constantI S_ 32 0#32) reducesTo_S131072x16_S16_d0 h_S_

/-- The segments' starts are the counts, -/
theorem Sv_eq : Sv m d = counts (tOf m d) := by
  unfold Sv V1
  simp only [ops]
  after_results
  try rfl
/-- and their ends the counts of the next segments, then the number of rows. -/
theorem Ev_eq : Ev m d = concatenate S16 0 [⟨S15, extractStridedSlice S15 ![1] (counts (tOf m d)) slices_S16_S15_1⟩, ⟨S1, constantI S1 32 131072#32⟩] concatenates_S15_S1_S16_d0 := by
  unfold Ev V1
  simp only [ops]
  after_results
  try rfl

/-- The transposed rows, element by element; -/
theorem v0_apply (k : Fin 61) (g : Fin 131072) : (V1 m d (Proc.devRef .tc main_v0) : FVec Ideal S61x131072 .f32) (ix2 k g) = xOf m d (ix2 g k) := by
  rw [v0_eq]; pointwise
/-- the transposed positions; -/
theorem v1_apply (k : Fin 3) (g : Fin 131072) : (V1 m d (Proc.devRef .tc main_v1) : FVec Ideal S3x131072 .f32) (ix2 k g) = pOf m d (ix2 g k) := by
  rw [v1_eq]; pointwise
/-- the rows' weights; -/
theorem v3_apply (k : Fin 61) (j : Fin 64) : (V1 m d (Proc.devRef .tc main_v3) : FVec Ideal S61x64 .f32) (ix2 k j) = wOf m d (ix2 j (Fin.castAdd 3 k)) := by
  rw [v3_eq]; pointwise
  rfl
/-- the positions' weights; -/
theorem v5_apply (k : Fin 3) (j : Fin 64) : (V1 m d (Proc.devRef .tc main_v5) : FVec Ideal S3x64 .f32) (ix2 k j) = wOf m d (ix2 j (Fin.natAdd 61 k)) := by
  rw [v5_eq]; pointwise
  rfl
/-- the bias. -/
theorem v6_apply (j : Fin 64) : (V1 m d (Proc.devRef .tc main_v6) : FVec Ideal S1x64 .f32) (ix2 0 j) = bOf m d (ix1 j) := by
  rw [v6_eq]; pointwise

/-- A segment's count is the number of ids below it. -/
theorem counts_apply (t : IVec S131072 32) (s : Fin 16) : counts t (ix1 s) = BitVec.ofNat 32 (below (fun g => (t (ix1 g)).toInt) s.val) := by
  pointwise [counts]
  refine (IndicatorCount.fold_addi_setWidth_eq_card (fun g : Fin 131072 => IntOp.cmpi .slt (t (ix1 g)) (BitVec.ofNat 32 s.val)) Finset.univ).trans ?_
  unfold below
  simp only [lt_word]

/-- A segment starts at the number of ids below it, -/
theorem Sv_apply (s : Fin 16) : Sv m d (ix1 s) = BitVec.ofNat 32 (below (fun g => (tOf m d (ix1 g)).toInt) s.val) := by
  rw [Sv_eq, counts_apply]
/-- and ends at the number of ids below the next, the last one at the number of rows. -/
theorem Ev_apply (s : Fin 16) : Ev m d (ix1 s) = if s.val < 15 then BitVec.ofNat 32 (below (fun g => (tOf m d (ix1 g)).toInt) (s.val + 1)) else 131072#32 := by
  rw [Ev_eq]
  pointwise
  split
  · next h =>
    refine (counts_apply (tOf m d) ⟨1 + s.val, by omega⟩).trans ?_
    rw [show ((⟨1 + s.val, by omega⟩ : Fin 16).val : Int) = s.val + 1 by push_cast; omega]
  · rfl

end Cert.KernelIdeal

end
-- ==== Proof.TcIdeal.lean ====
/-
  What the two `_mlp` calls leave: row `q` of a call's result holds the features of a row of the first half of the rows
  and, beside them, those of the row as far into the second half.
-/
module

public import proofs.«01_k».proof.Proof.HostIdeal
public import Idealize.ShloMosaic.Lib.Pipeline.ValueKit

@[expose] public section

noncomputable section

namespace Cert.KernelIdeal

open Idealize.ShloMosaic Idealize.ShloMosaic.TcCoe Cert.KernelIdeal.Gen Cert.Proof
open scoped BigOperators

/-- A half of a block, element by element: the two products, the bias, nothing below zero. -/
theorem half_apply (x : FVec Ideal S61x4096 .f32) (p : FVec Ideal S3x4096 .f32) (wx : FVec Ideal S61x64 .f32) (wq : FVec Ideal S3x64 .f32) (b : FVec Ideal S1x64 .f32)
    (r : Fin 4096) (j : Fin 64) : half x p wx wq b (ix2 r j)
      = max ((∑ k : Fin 61, (x (ix2 k r) : EReal) * wx (ix2 k j)) + (∑ k : Fin 3, (p (ix2 k r) : EReal) * wq (ix2 k j)) + b (ix2 0 j)) 0 := by
  pointwise [half]

/-- The left 64 lanes are the first half's, -/
theorem both_left (x x' : FVec Ideal S61x4096 .f32) (p p' : FVec Ideal S3x4096 .f32) (wx : FVec Ideal S61x64 .f32) (wq : FVec Ideal S3x64 .f32) (b : FVec Ideal S1x64 .f32)
    (y : S4096x128.Idx) (h : (y 1).val < 64) : both x x' p p' wx wq b y = half x p wx wq b (ix2 (y 0) ⟨(y 1).val, h⟩) := by
  pointwise [both]
  rw [dif_pos h]
/-- the right 64 the second half's. -/
theorem both_right (x x' : FVec Ideal S61x4096 .f32) (p p' : FVec Ideal S3x4096 .f32) (wx : FVec Ideal S61x64 .f32) (wq : FVec Ideal S3x64 .f32) (b : FVec Ideal S1x64 .f32)
    (y : S4096x128.Idx) (h : ¬(y 1).val < 64) : both x x' p p' wx wq b y = half x' p' wx wq b (ix2 (y 0) ⟨(y 1).val - 64, by have : (y 1).val < 128 := (y 1).isLt; omega⟩) := by
  pointwise [both]
  rw [dif_neg h]

/-- Which block a point of the call has of the rows of the first half. -/
theorem ix0_0 : ∀ t : Fin cfg0.N, win0_0.index t = ![0, t.val] := by decide +kernel
/-- Which block a point of the call has of the rows of the second half. -/
theorem ix0_1 : ∀ t : Fin cfg0.N, win0_1.index t = ![0, t.val + 16] := by decide +kernel
/-- Which block a point of the call has of the positions of the first half. -/
theorem ix0_2 : ∀ t : Fin cfg0.N, win0_2.index t = ![0, t.val] := by decide +kernel
/-- Which block a point of the call has of the positions of the second half. -/
theorem ix0_3 : ∀ t : Fin cfg0.N, win0_3.index t = ![0, t.val + 16] := by decide +kernel
/-- Which block a point of the call has of the rows' weights. -/
theorem ix0_4 : ∀ t : Fin cfg0.N, win0_4.index t = ![0, 0] := by decide +kernel
/-- Which block a point of the call has of the positions' weights. -/
theorem ix0_5 : ∀ t : Fin cfg0.N, win0_5.index t = ![0, 0] := by decide +kernel
/-- Which block a point of the call has of the bias. -/
theorem ix0_6 : ∀ t : Fin cfg0.N, win0_6.index t = ![0, 0] := by decide +kernel
/-- Which block a point of the call has of the result. -/
theorem ix0_7 : ∀ t : Fin cfg0.N, win0_7.index t = ![t.val, 0] := by decide +kernel

variable (m : (ℓ : Loc nD τ sig) → Buf (Elt Ideal) ℓ) (d : Dev nD)

/-- The features of row `g`, on a device. -/
def ft (g : Fin 131072) (j : Fin 64) : EReal := feat (xOf m d) (pOf m d) (wOf m d) (bOf m d) g j

/-- The features as a call lays them out, from row `n` on. -/
def lay (n : Nat) : FVec Ideal S32768x128 .f32 := fun p =>
  if h : (p 1).val < 64 then ft m d (Fin.ofNat 131072 (n + (p 0).val)) ⟨(p 1).val, h⟩
  else ft m d (Fin.ofNat 131072 (n + (p 0).val + 65536)) (Fin.ofNat 64 ((p 1).val - 64))

/-- A row's number, read back. -/
theorem ofNat_val {a : Nat} (h : a < 131072) : (Fin.ofNat 131072 a).val = a := Nat.mod_eq_of_lt h

/-- A half computes the features of a row when its blocks hold that row, the weights and the bias. -/
theorem half_feat {x : FVec Ideal S61x4096 .f32} {p : FVec Ideal S3x4096 .f32} {wx : FVec Ideal S61x64 .f32} {wq : FVec Ideal S3x64 .f32} {b : FVec Ideal S1x64 .f32}
    {r : Fin 4096} {j : Fin 64} (g : Fin 131072) (hx : ∀ k, x (ix2 k r) = xOf m d (ix2 g k)) (hp : ∀ k, p (ix2 k r) = pOf m d (ix2 g k))
    (hwx : ∀ k, wx (ix2 k j) = wOf m d (ix2 j (Fin.castAdd 3 k))) (hwq : ∀ k, wq (ix2 k j) = wOf m d (ix2 j (Fin.natAdd 61 k))) (hb : b (ix2 0 j) = bOf m d (ix1 j)) :
    half x p wx wq b (ix2 r j) = ft m d g j := by
  rw [half_apply, hb]
  unfold ft feat
  refine congrArg₂ max (congrArg (· + bOf m d (ix1 j)) (congrArg₂ (· + ·) (Finset.sum_congr rfl fun k _ => ?_) (Finset.sum_congr rfl fun k _ => ?_))) rfl
  · rw [hx, hwx]
  · rw [hp, hwq]

/-- The left lanes of a call's rows hold a row's features, -/
theorem lay_left {n : Nat} (q : S32768x128.Idx) (g : Fin 131072) (j : Fin 64) (hg : g.val = n + (q 0).val) (hj : j.val = (q 1).val) :
    ft m d g j = lay m d n q := by
  have h : (q 1).val < 64 := hj ▸ j.isLt
  unfold lay
  rw [dif_pos h]
  exact congrArg₂ (ft m d) (Fin.ext ((Nat.mod_eq_of_lt (by omega)).trans hg.symm).symm) (Fin.ext hj)

/-- and the right lanes those of the row half the rows further on. -/
theorem lay_right {n : Nat} (q : S32768x128.Idx) (g : Fin 131072) (j : Fin 64) (hg : g.val = n + (q 0).val + 65536) (hj : j.val + 64 = (q 1).val) :
    ft m d g j = lay m d n q := by
  have h : ¬(q 1).val < 64 := by omega
  unfold lay
  rw [dif_neg h]
  exact congrArg₂ (ft m d) (Fin.ext ((Nat.mod_eq_of_lt (by omega)).trans hg.symm).symm) (Fin.ext ((Nat.mod_eq_of_lt (by omega)).trans (by omega)).symm)

/-- Where a row of a block lies among all rows. -/
theorem both_arith {n u u' t a c : Nat} (hu : u * 4096 = n + t * 4096) (hu' : u' * 4096 = n + t * 4096 + 65536) (hn : n ≤ 32768) (ht : t < 8)
    (ha : a < 4096) (hc : c = t * 4096 + a) :
    u * 4096 + a < 131072 ∧ u * 4096 + a = n + c ∧ u' * 4096 + a < 131072 ∧ u' * 4096 + a = n + c + 65536 := by omega

/-- A block of a call holds the features as the call lays them out. -/
theorem both_lay {x x' : FVec Ideal S61x4096 .f32} {p p' : FVec Ideal S3x4096 .f32} {wx : FVec Ideal S61x64 .f32} {wq : FVec Ideal S3x64 .f32} {b : FVec Ideal S1x64 .f32}
    {n u u' t : Nat} (hu : u * 4096 = n + t * 4096) (hu' : u' * 4096 = n + t * 4096 + 65536) (hn : n ≤ 32768) (ht : t < 8)
    (hx : ∀ k (r : Fin 4096), x (ix2 k r) = xOf m d (ix2 (Fin.ofNat 131072 (u * 4096 + r.val)) k)) (hx' : ∀ k (r : Fin 4096), x' (ix2 k r) = xOf m d (ix2 (Fin.ofNat 131072 (u' * 4096 + r.val)) k))
    (hp : ∀ k (r : Fin 4096), p (ix2 k r) = pOf m d (ix2 (Fin.ofNat 131072 (u * 4096 + r.val)) k)) (hp' : ∀ k (r : Fin 4096), p' (ix2 k r) = pOf m d (ix2 (Fin.ofNat 131072 (u' * 4096 + r.val)) k))
    (hwx : ∀ k j, wx (ix2 k j) = wOf m d (ix2 j (Fin.castAdd 3 k))) (hwq : ∀ k j, wq (ix2 k j) = wOf m d (ix2 j (Fin.natAdd 61 k))) (hb : ∀ j, b (ix2 0 j) = bOf m d (ix1 j))
    (y : S4096x128.Idx) (q : S32768x128.Idx) (e0 : (q 0).val = t * 4096 + (y 0).val) (e1 : (q 1).val = (y 1).val) :
    both x x' p p' wx wq b y = lay m d n q := by
  have hy0 : (y 0).val < 4096 := (y 0).isLt
  have hy1 : (y 1).val < 128 := (y 1).isLt
  obtain ⟨b1, c1, b2, c2⟩ := both_arith hu hu' hn ht hy0 e0
  by_cases h : (y 1).val < 64
  · rw [both_left _ _ _ _ _ _ _ y h, half_feat m d (Fin.ofNat 131072 (u * 4096 + (y 0).val)) (hx · _) (hp · _) (hwx · _) (hwq · _) (hb _)]
    exact lay_left m d q _ _ ((ofNat_val b1).trans c1) e1.symm
  · rw [both_right _ _ _ _ _ _ _ y h, half_feat m d (Fin.ofNat 131072 (u' * 4096 + (y 0).val)) (hx' · _) (hp' · _) (hwx · _) (hwq · _) (hb _)]
    exact lay_right m d q _ _ ((ofNat_val b2).trans c2) (by show (y 1).val - 64 + 64 = _; omega)

/-! ## The first call -/

/-- The block of the rows of the first half, element by element. -/
theorem blk0_0 (t : Fin cfg0.N) (k : Fin 61) (r : Fin 4096) : blk0 (W₁ m) d 0 t (ix2 k r) = xOf m d (ix2 (Fin.ofNat 131072 (t.val * 4096 + r.val)) k) := by
  rw [← v0_apply]
  have ht : t.val < 8 := t.isLt
  blk_simp [blk0]
  refine congrArg (V1 m d (Proc.devRef .tc main_v0) : FVec Ideal S61x131072 .f32) (Shape.idx_ext₂ ?_ ?_) <;> blk_simp [ix0_0] <;> simp [Fin.ofNat] <;> omega
/-- The block of the rows of the second half, element by element. -/
theorem blk0_1 (t : Fin cfg0.N) (k : Fin 61) (r : Fin 4096) : blk0 (W₁ m) d 1 t (ix2 k r) = xOf m d (ix2 (Fin.ofNat 131072 ((t.val + 16) * 4096 + r.val)) k) := by
  rw [← v0_apply]
  have ht : t.val < 8 := t.isLt
  blk_simp [blk0]
  refine congrArg (V1 m d (Proc.devRef .tc main_v0) : FVec Ideal S61x131072 .f32) (Shape.idx_ext₂ ?_ ?_) <;> blk_simp [ix0_1] <;> simp [Fin.ofNat] <;> omega
/-- The block of the positions of the first half, element by element. -/
theorem blk0_2 (t : Fin cfg0.N) (k : Fin 3) (r : Fin 4096) : blk0 (W₁ m) d 2 t (ix2 k r) = pOf m d (ix2 (Fin.ofNat 131072 (t.val * 4096 + r.val)) k) := by
  rw [← v1_apply]
  have ht : t.val < 8 := t.isLt
  blk_simp [blk0]
  refine congrArg (V1 m d (Proc.devRef .tc main_v1) : FVec Ideal S3x131072 .f32) (Shape.idx_ext₂ ?_ ?_) <;> blk_simp [ix0_2] <;> simp [Fin.ofNat] <;> omega
/-- The block of the positions of the second half, element by element. -/
theorem blk0_3 (t : Fin cfg0.N) (k : Fin 3) (r : Fin 4096) : blk0 (W₁ m) d 3 t (ix2 k r) = pOf m d (ix2 (Fin.ofNat 131072 ((t.val + 16) * 4096 + r.val)) k) := by
  rw [← v1_apply]
  have ht : t.val < 8 := t.isLt
  blk_simp [blk0]
  refine congrArg (V1 m d (Proc.devRef .tc main_v1) : FVec Ideal S3x131072 .f32) (Shape.idx_ext₂ ?_ ?_) <;> blk_simp [ix0_3] <;> simp [Fin.ofNat] <;> omega
/-- The block of the rows' weights, element by element. -/
theorem blk0_4 (t : Fin cfg0.N) (k : Fin 61) (j : Fin 64) : blk0 (W₁ m) d 4 t (ix2 k j) = wOf m d (ix2 j (Fin.castAdd 3 k)) := by
  rw [← v3_apply]
  blk_simp [blk0]
  refine congrArg (V1 m d (Proc.devRef .tc main_v3) : FVec Ideal S61x64 .f32) (Shape.idx_ext₂ ?_ ?_) <;> blk_simp [ix0_4] <;> simp
/-- The block of the positions' weights, element by element. -/
theorem blk0_5 (t : Fin cfg0.N) (k : Fin 3) (j : Fin 64) : blk0 (W₁ m) d 5 t (ix2 k j) = wOf m d (ix2 j (Fin.natAdd 61 k)) := by
  rw [← v5_apply]
  blk_simp [blk0]
  refine congrArg (V1 m d (Proc.devRef .tc main_v5) : FVec Ideal S3x64 .f32) (Shape.idx_ext₂ ?_ ?_) <;> blk_simp [ix0_5] <;> simp
/-- The block of the bias, element by element. -/
theorem blk0_6 (t : Fin cfg0.N) (j : Fin 64) : blk0 (W₁ m) d 6 t (ix2 0 j) = bOf m d (ix1 j) := by
  rw [← v6_apply]
  blk_simp [blk0]
  refine congrArg (V1 m d (Proc.devRef .tc main_v6) : FVec Ideal S1x64 .f32) (Shape.idx_ext₂ ?_ ?_) <;> blk_simp [ix0_6] <;> simp

/-- The result's blocks cover the result. -/
theorem covers0 : (win0_7).Covers := by decide +kernel
/-- An element of a block, by its row in the array -/
theorem out0_0 (t : Fin cfg0.N) (y : S4096x128.Idx) : (((win0_7.blk t).view.emb y 0 : Fin _) : Nat) = t.val * 4096 + (y 0).val := by blk_simp [ix0_7]
/-- and by its column. -/
theorem out0_1 (t : Fin cfg0.N) (y : S4096x128.Idx) : (((win0_7.blk t).view.emb y 1 : Fin _) : Nat) = (y 1).val := by blk_simp [ix0_7]

/-- What the call leaves in a block is its two halves side by side, -/
theorem after0_eq (t : Fin cfg0.N) (y : S4096x128.Idx) : (dat0 (W₁ m) d).after 7 t y
    = both (F := Ideal) (blk0 (W₁ m) d 0 t) (blk0 (W₁ m) d 1 t) (blk0 (W₁ m) d 2 t) (blk0 (W₁ m) d 3 t) (blk0 (W₁ m) d 4 t) (blk0 (W₁ m) d 5 t) (blk0 (W₁ m) d 6 t) y := rfl

/-- which are the features as the call lays them out. -/
theorem after0 (t : Fin cfg0.N) (y : S4096x128.Idx) : (dat0 (W₁ m) d).after 7 t y = lay m d 0 ((win0_7.blk t).view.emb y) := by
  have ht : t.val < 8 := t.isLt
  rw [after0_eq]
  exact both_lay m d (u := t.val) (u' := t.val + 16) (t := t.val) (by omega) (by omega) (by decide) ht (blk0_0 m d t) (blk0_1 m d t) (blk0_2 m d t) (blk0_3 m d t)
    (blk0_4 m d t) (blk0_5 m d t) (blk0_6 m d t) y _ (out0_0 t y) (out0_1 t y)

/-- The first call leaves the features from row 0 on. -/
theorem H1_eq : H1 m d = lay m d 0 := by
  unfold H1
  refine (dat0 (W₁ m) d).arrAt_eq_of_covers 7 _ covers0 fun t hf y => ?_
  blk_simp
  exact after0 m d t y

/-! ## The second call -/

/-- Which block a point of the call has of the rows of the first half. -/
theorem ix2_0 : ∀ t : Fin cfg2.N, win2_0.index t = ![0, t.val + 8] := by decide +kernel
/-- Which block a point of the call has of the rows of the second half. -/
theorem ix2_1 : ∀ t : Fin cfg2.N, win2_1.index t = ![0, t.val + 24] := by decide +kernel
/-- Which block a point of the call has of the positions of the first half. -/
theorem ix2_2 : ∀ t : Fin cfg2.N, win2_2.index t = ![0, t.val + 8] := by decide +kernel
/-- Which block a point of the call has of the positions of the second half. -/
theorem ix2_3 : ∀ t : Fin cfg2.N, win2_3.index t = ![0, t.val + 24] := by decide +kernel
/-- Which block a point of the call has of the rows' weights. -/
theorem ix2_4 : ∀ t : Fin cfg2.N, win2_4.index t = ![0, 0] := by decide +kernel
/-- Which block a point of the call has of the positions' weights. -/
theorem ix2_5 : ∀ t : Fin cfg2.N, win2_5.index t = ![0, 0] := by decide +kernel
/-- Which block a point of the call has of the bias. -/
theorem ix2_6 : ∀ t : Fin cfg2.N, win2_6.index t = ![0, 0] := by decide +kernel
/-- Which block a point of the call has of the result. -/
theorem ix2_7 : ∀ t : Fin cfg2.N, win2_7.index t = ![t.val, 0] := by decide +kernel

/-- The block of the rows of the first half, element by element. -/
theorem blk2_0 (t : Fin cfg2.N) (k : Fin 61) (r : Fin 4096) : blk2 (W₁ m) d 0 t (ix2 k r) = xOf m d (ix2 (Fin.ofNat 131072 ((t.val + 8) * 4096 + r.val)) k) := by
  rw [← v0_apply]
  have ht : t.val < 8 := t.isLt
  blk_simp [blk2]
  refine congrArg (V1 m d (Proc.devRef .tc main_v0) : FVec Ideal S61x131072 .f32) (Shape.idx_ext₂ ?_ ?_) <;> blk_simp [ix2_0] <;> simp [Fin.ofNat] <;> omega
/-- The block of the rows of the second half, element by element. -/
theorem blk2_1 (t : Fin cfg2.N) (k : Fin 61) (r : Fin 4096) : blk2 (W₁ m) d 1 t (ix2 k r) = xOf m d (ix2 (Fin.ofNat 131072 ((t.val + 24) * 4096 + r.val)) k) := by
  rw [← v0_apply]
  have ht : t.val < 8 := t.isLt
  blk_simp [blk2]
  refine congrArg (V1 m d (Proc.devRef .tc main_v0) : FVec Ideal S61x131072 .f32) (Shape.idx_ext₂ ?_ ?_) <;> blk_simp [ix2_1] <;> simp [Fin.ofNat] <;> omega
/-- The block of the positions of the first half, element by element. -/
theorem blk2_2 (t : Fin cfg2.N) (k : Fin 3) (r : Fin 4096) : blk2 (W₁ m) d 2 t (ix2 k r) = pOf m d (ix2 (Fin.ofNat 131072 ((t.val + 8) * 4096 + r.val)) k) := by
  rw [← v1_apply]
  have ht : t.val < 8 := t.isLt
  blk_simp [blk2]
  refine congrArg (V1 m d (Proc.devRef .tc main_v1) : FVec Ideal S3x131072 .f32) (Shape.idx_ext₂ ?_ ?_) <;> blk_simp [ix2_2] <;> simp [Fin.ofNat] <;> omega
/-- The block of the positions of the second half, element by element. -/
theorem blk2_3 (t : Fin cfg2.N) (k : Fin 3) (r : Fin 4096) : blk2 (W₁ m) d 3 t (ix2 k r) = pOf m d (ix2 (Fin.ofNat 131072 ((t.val + 24) * 4096 + r.val)) k) := by
  rw [← v1_apply]
  have ht : t.val < 8 := t.isLt
  blk_simp [blk2]
  refine congrArg (V1 m d (Proc.devRef .tc main_v1) : FVec Ideal S3x131072 .f32) (Shape.idx_ext₂ ?_ ?_) <;> blk_simp [ix2_3] <;> simp [Fin.ofNat] <;> omega
/-- The block of the rows' weights, element by element. -/
theorem blk2_4 (t : Fin cfg2.N) (k : Fin 61) (j : Fin 64) : blk2 (W₁ m) d 4 t (ix2 k j) = wOf m d (ix2 j (Fin.castAdd 3 k)) := by
  rw [← v3_apply]
  blk_simp [blk2]
  refine congrArg (V1 m d (Proc.devRef .tc main_v3) : FVec Ideal S61x64 .f32) (Shape.idx_ext₂ ?_ ?_) <;> blk_simp [ix2_4] <;> simp
/-- The block of the positions' weights, element by element. -/
theorem blk2_5 (t : Fin cfg2.N) (k : Fin 3) (j : Fin 64) : blk2 (W₁ m) d 5 t (ix2 k j) = wOf m d (ix2 j (Fin.natAdd 61 k)) := by
  rw [← v5_apply]
  blk_simp [blk2]
  refine congrArg (V1 m d (Proc.devRef .tc main_v5) : FVec Ideal S3x64 .f32) (Shape.idx_ext₂ ?_ ?_) <;> blk_simp [ix2_5] <;> simp
/-- The block of the bias, element by element. -/
theorem blk2_6 (t : Fin cfg2.N) (j : Fin 64) : blk2 (W₁ m) d 6 t (ix2 0 j) = bOf m d (ix1 j) := by
  rw [← v6_apply]
  blk_simp [blk2]
  refine congrArg (V1 m d (Proc.devRef .tc main_v6) : FVec Ideal S1x64 .f32) (Shape.idx_ext₂ ?_ ?_) <;> blk_simp [ix2_6] <;> simp

/-- The result's blocks cover the result. -/
theorem covers2 : (win2_7).Covers := by decide +kernel
/-- An element of a block, by its row in the array -/
theorem out2_0 (t : Fin cfg2.N) (y : S4096x128.Idx) : (((win2_7.blk t).view.emb y 0 : Fin _) : Nat) = t.val * 4096 + (y 0).val := by blk_simp [ix2_7]
/-- and by its column. -/
theorem out2_1 (t : Fin cfg2.N) (y : S4096x128.Idx) : (((win2_7.blk t).view.emb y 1 : Fin _) : Nat) = (y 1).val := by blk_simp [ix2_7]

/-- What the call leaves in a block is its two halves side by side, -/
theorem after2_eq (t : Fin cfg2.N) (y : S4096x128.Idx) : (dat2 (W₁ m) d).after 7 t y
    = both (F := Ideal) (blk2 (W₁ m) d 0 t) (blk2 (W₁ m) d 1 t) (blk2 (W₁ m) d 2 t) (blk2 (W₁ m) d 3 t) (blk2 (W₁ m) d 4 t) (blk2 (W₁ m) d 5 t) (blk2 (W₁ m) d 6 t) y := rfl

/-- which are the features as the call lays them out. -/
theorem after2 (t : Fin cfg2.N) (y : S4096x128.Idx) : (dat2 (W₁ m) d).after 7 t y = lay m d 32768 ((win2_7.blk t).view.emb y) := by
  have ht : t.val < 8 := t.isLt
  rw [after2_eq]
  exact both_lay m d (u := t.val + 8) (u' := t.val + 24) (t := t.val) (by omega) (by omega) (by decide) ht (blk2_0 m d t) (blk2_1 m d t) (blk2_2 m d t) (blk2_3 m d t)
    (blk2_4 m d t) (blk2_5 m d t) (blk2_6 m d t) y _ (out2_0 t y) (out2_1 t y)

/-- The second call leaves them from row 32768 on. -/
theorem H3_eq : H3 m d = lay m d 32768 := by
  unfold H3
  refine (dat2 (W₁ m) d).arrAt_eq_of_covers 7 _ covers2 fun t hf y => ?_
  blk_simp
  exact after2 m d t y

end Cert.KernelIdeal

end
-- ==== Proof.Bound.lean ====
/-
  The bounds of the tiles' maxima at the extended reals: a number bounds what a tile computes for a segment exactly when it
  bounds the features of every row of the tile that lies in the segment's range.
-/
module

public import proofs.«01_k».proof.Proof.Steps
public import Idealize.ShloMosaic.PureOps.Ideal.Laws

@[expose] public section

noncomputable section

namespace Cert.Proof.Block

open Idealize.ShloMosaic

/-- The float word of minus infinity. -/
theorem word_bot : (FloatOps.ofBits (F := Ideal) .f32 0xFF800000#32 : EReal) = ⊥ := by simp [Ideal.ofBits, Ideal.ieee]

/-- A number bounds a running maximum exactly when it bounds the start and every row taken. -/
theorem mx_le (b : FVec Ideal B .f32) (col lo : Nat) (x z : EReal) : ∀ n : Nat,
    (mx b col lo x n : EReal) ≤ z ↔ x ≤ z ∧ ∀ i < n, (b (ix2 (Fin.ofNat 256 (lo + i)) (Fin.ofNat 128 col)) : EReal) ≤ z
  | 0 => by simp [mx]
  | n + 1 => by
    show (max (mx b col lo x n : EReal) _) ≤ z ↔ _
    rw [max_le_iff, mx_le b col lo x z n]
    constructor
    · rintro ⟨⟨h, h1⟩, h2⟩
      refine ⟨h, fun i hi => ?_⟩
      rcases Nat.lt_succ_iff_lt_or_eq.mp hi with h' | rfl
      · exact h1 i h'
      · exact h2
    · rintro ⟨h, h1⟩
      exact ⟨⟨h, fun i hi => h1 i (by omega)⟩, h1 n (by omega)⟩

/-- A number bounds an updated entry exactly when it bounds the entry before and, in the segment's row, every row of the range. -/
theorem upd_le (X : FVec Ideal A .f32) (s co : Nat) (b : FVec Ideal B .f32) (lo hi : Nat) (p : A.Idx) (z : EReal) :
    (upd X s co b lo hi p : EReal) ≤ z ↔ (X p : EReal) ≤ z
      ∧ ((p 0).val = s → ∀ r, lo ≤ r → r < hi → (b (ix2 (Fin.ofNat 256 r) (Fin.ofNat 128 (co + (p 1).val))) : EReal) ≤ z) := by
  unfold upd
  split
  · next hs =>
    rw [mx_le]
    refine and_congr_right fun _ => ⟨fun h _ r h1 h2 => ?_, fun h i hi => h hs (lo + i) (by omega) (by omega)⟩
    have := h (r - lo) (by omega)
    rwa [show lo + (r - lo) = r by omega] at this
  · next hs => exact ⟨fun h => ⟨h, fun h' => absurd h' hs⟩, fun h => h.1⟩

/-! ## The bounds of a chunk's rows -/

variable {v e k : BitVec 32} {B' K e' : Int}

/-- What a limited bound reads as: the bound from the call's row on, limited to the tile, from the chunk's row on. -/
theorem lim_eq (hv : v.toInt = B') (he : e.toInt = e') (hk : k.toInt = K) (h : 0 ≤ B' ∧ B' ≤ 131072 ∧ -131072 ≤ e' ∧ e' ≤ 131072 ∧ 0 ≤ K ∧ K ≤ 1024) :
    (lim v e k).toInt = min 1024 (max 0 (e' - B')) - K := by
  have h1 : Affine.IsInt (Scalar.subi e v) (e' - B') :=
    Affine.subi (he ▸ Affine.word e) (hv ▸ Affine.word v) ⟨rfl, by omega, by omega⟩
  have h2 : Affine.IsInt (lim v e k) (min 1024 (max 0 (e' - B')) - K) :=
    Affine.subi (Affine.minsi (Affine.ofNat 1024 ⟨rfl, by decide⟩) (Affine.maxsi (Affine.ofNat 0 ⟨rfl, by decide⟩) h1 rfl) rfl)
      (hk ▸ Affine.word k) ⟨rfl, by omega, by omega⟩
  unfold Affine.IsInt at h2
  exact h2

/-- A row of the chunk is past a limited bound exactly when its row of the array is past the bound. -/
theorem row_lim_le (hv : v.toInt = B') (he : e.toInt = e') (hk : k.toInt = K) (h : 0 ≤ B' ∧ B' ≤ 131072 ∧ -131072 ≤ e' ∧ e' ≤ 131072 ∧ 0 ≤ K ∧ K + 256 ≤ 1024)
    {r : Nat} (hr : r < 256) : row (lim v e k) ≤ r ↔ e' ≤ B' + K + r := by
  have h1 := row_eq (lim v e k)
  rw [lim_eq hv he hk (by omega)] at h1
  omega

/-- A row number is at most 256. -/
theorem row_le (x : BitVec 32) : row x ≤ 256 := by have := row_eq x; omega

/-! ## One segment, one chunk, one tile -/

variable {V W : IVec V16 32}

/-- What it is to bound the rows `q` of a tile, from `a` on and before `b`, that lie in a segment's range. -/
def Bounds (S E B' : Int) (X : Nat → Nat → EReal) (c : Nat) (z : EReal) (a b : Nat) : Prop :=
  ∀ q, a ≤ q → q < b → (S ≤ B' + q → B' + q < E → X q c ≤ z) ∧ (S ≤ B' + q + 65536 → B' + q + 65536 < E → X q (64 + c) ≤ z)

/-- What two neighbouring ranges of rows ask, their union asks. -/
theorem Bounds.join {S E : Int} {X : Nat → Nat → EReal} {c : Nat} {z : EReal} {a b d : Nat} (hab : a ≤ b) (hbd : b ≤ d) :
    Bounds S E B' X c z a d ↔ Bounds S E B' X c z a b ∧ Bounds S E B' X c z b d :=
  ⟨fun h => ⟨fun q h1 h2 => h q h1 (by omega), fun q h1 h2 => h q (by omega) h2⟩,
    fun h q h1 h2 => if hq : q < b then h.1 q h1 hq else h.2 q (by omega) h2⟩

section Seg

variable {S E : Fin 16 → Int} (hv : v.toInt = B') (hS : ∀ s, (entry V s).toInt = S s) (hE : ∀ s, (entry W s).toInt = E s)
  (hB : 0 ≤ B' ∧ B' ≤ 131072) (hS' : ∀ s, 0 ≤ S s ∧ S s ≤ 131072) (hE' : ∀ s, 0 ≤ E s ∧ E s ≤ 131072)
  {X : Nat → Nat → EReal}

include hv hS hE hB hS' hE'

/-- A number bounds an entry after one segment's update exactly when it bounds the entry before and the chunk's rows of the segment. -/
theorem segUpd_le {n : Nat} (hk : k.toInt = n) (hn : n + 256 ≤ 1024) {H : FVec Ideal B .f32}
    (hH : ∀ r c, r < 256 → c < 128 → H (ix2 (Fin.ofNat 256 r) (Fin.ofNat 128 c)) = X (n + r) c) (Y : FVec Ideal A .f32) (s : Fin 16) (p : A.Idx) (z : EReal) :
    (segUpd v V W k H Y s p : EReal) ≤ z ↔ (Y p : EReal) ≤ z ∧ ((p 0).val = s.val → Bounds (S s) (E s) B' X (p 1).val z n (n + 256)) := by
  have hp : (p 1).val < 64 := (p 1).isLt
  have hs (e : BitVec 32) {x : Int} (he : e.toInt = x) (hx : 0 ≤ x ∧ x ≤ 131072) : (Scalar.subi e 65536#32).toInt = x - 65536 := by
    have h := Affine.subi (he ▸ Affine.word e) (Affine.ofNat (e := 65536) 65536 ⟨rfl, by decide⟩) (e := x - 65536) ⟨rfl, by omega, by omega⟩
    unfold Affine.IsInt at h
    exact h
  have r1 {r : Nat} (hr : r < 256) := row_lim_le (k := k) hv (hS s) hk (K := n) (by have := hS' s; omega) hr
  have r2 {r : Nat} (hr : r < 256) := row_lim_le (k := k) hv (hE s) hk (K := n) (by have := hE' s; omega) hr
  have r3 {r : Nat} (hr : r < 256) := row_lim_le (k := k) hv (hs _ (hS s) (hS' s)) hk (K := n) (by have := hS' s; omega) hr
  have r4 {r : Nat} (hr : r < 256) := row_lim_le (k := k) hv (hs _ (hE s) (hE' s)) hk (K := n) (by have := hE' s; omega) hr
  unfold segUpd
  rw [upd_le, upd_le, and_assoc]
  refine and_congr_right fun _ => ⟨fun h hs q h1 h2 => ⟨fun a1 a2 => ?_, fun a1 a2 => ?_⟩, fun h => ⟨fun hs r a1 a2 => ?_, fun hs r a1 a2 => ?_⟩⟩
  · have := h.1 hs (q - n) ((r1 (by omega)).2 (by omega)) (not_le.1 fun h' => by have := (r2 (by omega)).1 h'; omega)
    rwa [hH _ _ (by omega) (by omega), show n + (q - n) = q by omega, Nat.zero_add] at this
  · have := h.2 hs (q - n) ((r3 (by omega)).2 (by omega)) (not_le.1 fun h' => by have := (r4 (by omega)).1 h'; omega)
    rwa [hH _ _ (by omega) (by omega), show n + (q - n) = q by omega] at this
  · have hr : r < 256 := by have := row_le (lim v (entry W s) k); omega
    rw [hH _ _ hr (by omega), Nat.zero_add]
    exact (h hs (n + r) (by omega) (by omega)).1 (by have := (r1 hr).1 a1; push_cast; omega)
      (not_le.1 fun h' => by have := (r2 hr).2 (by push_cast at h'; omega); omega)
  · have hr : r < 256 := by have := row_le (lim v (Scalar.subi (entry W s) 65536#32) k); omega
    rw [hH _ _ hr (by omega)]
    exact (h hs (n + r) (by omega) (by omega)).2 (by have := (r3 hr).1 a1; push_cast; omega)
      (not_le.1 fun h' => by have := (r4 hr).2 (by push_cast at h'; omega); omega)

/-- The same of a whole chunk's updates. -/
theorem chunkUpd_le {n : Nat} (hk : k.toInt = n) (hn : n + 256 ≤ 1024) {H : FVec Ideal B .f32}
    (hH : ∀ r c, r < 256 → c < 128 → H (ix2 (Fin.ofNat 256 r) (Fin.ofNat 128 c)) = X (n + r) c) (Y : FVec Ideal A .f32) (p : A.Idx) (z : EReal) :
    (chunkUpd v V W k H Y p : EReal) ≤ z ↔ (Y p : EReal) ≤ z ∧ Bounds (S (p 0)) (E (p 0)) B' X (p 1).val z n (n + 256) := by
  have fold : ∀ (l : List (Fin 16)) (Y : FVec Ideal A .f32), (l.foldl (segUpd v V W k H) Y p : EReal) ≤ z
      ↔ (Y p : EReal) ≤ z ∧ ((p 0) ∈ l → Bounds (S (p 0)) (E (p 0)) B' X (p 1).val z n (n + 256)) := by
    intro l
    induction l with
    | nil => exact fun Y => ⟨fun h => ⟨h, fun hm => absurd hm List.not_mem_nil⟩, fun h => h.1⟩
    | cons s l ih =>
      intro Y
      rw [List.foldl_cons, ih, segUpd_le hv hS hE hB hS' hE' hk hn hH, and_assoc]
      refine and_congr_right fun _ => ⟨fun h hm => ?_, fun h => ⟨fun hs => ?_, fun hm => h (List.mem_cons_of_mem _ hm)⟩⟩
      · rcases List.mem_cons.mp hm with e | hm
        · have := h.1 (congrArg Fin.val e); rwa [← e] at this
        · exact h.2 hm
      · have e : p 0 = s := Fin.ext hs
        rw [← e]; exact h (e ▸ List.mem_cons_self)
  unfold chunkUpd
  rw [fold]
  have hall : ∀ s : Fin 16, s ∈ ([0, 1, 2, 3, 4, 5, 6, 7, 8, 9, 10, 11, 12, 13, 14, 15] : List (Fin 16)) := by decide
  exact and_congr_right fun _ => ⟨fun h => h (hall (p 0)), fun h _ => h⟩

/-- A number bounds a tile's result for a segment when it bounds the tile's rows in the segment's range. -/
theorem tileVal_le {H0 H1 H2 H3 : FVec Ideal B .f32}
    (h0 : ∀ r c, r < 256 → c < 128 → H0 (ix2 (Fin.ofNat 256 r) (Fin.ofNat 128 c)) = X (0 + r) c)
    (h1 : ∀ r c, r < 256 → c < 128 → H1 (ix2 (Fin.ofNat 256 r) (Fin.ofNat 128 c)) = X (256 + r) c)
    (h2 : ∀ r c, r < 256 → c < 128 → H2 (ix2 (Fin.ofNat 256 r) (Fin.ofNat 128 c)) = X (512 + r) c)
    (h3 : ∀ r c, r < 256 → c < 128 → H3 (ix2 (Fin.ofNat 256 r) (Fin.ofNat 128 c)) = X (768 + r) c) (p : A.Idx) (z : EReal) :
    (tileVal v V W H0 H1 H2 H3 p : EReal) ≤ z ↔ Bounds (S (p 0)) (E (p 0)) B' X (p 1).val z 0 1024 := by
  unfold tileVal
  rw [chunkUpd_le (n := 768) hv hS hE hB hS' hE' rfl (by decide) h3, chunkUpd_le (n := 512) hv hS hE hB hS' hE' rfl (by decide) h2,
    chunkUpd_le (n := 256) hv hS hE hB hS' hE' rfl (by decide) h1, chunkUpd_le (n := 0) hv hS hE hB hS' hE' rfl (by decide) h0]
  have hz : ((Scalar.ofBits (F := Ideal) .f32 0xFF800000#32 : Ideal .f32) : EReal) ≤ z := le_of_eq_of_le word_bot bot_le
  have e : Bounds (S (p 0)) (E (p 0)) B' X (p 1).val z 0 1024 ↔ ((Bounds (S (p 0)) (E (p 0)) B' X (p 1).val z 0 256
      ∧ Bounds (S (p 0)) (E (p 0)) B' X (p 1).val z 256 512) ∧ Bounds (S (p 0)) (E (p 0)) B' X (p 1).val z 512 768)
      ∧ Bounds (S (p 0)) (E (p 0)) B' X (p 1).val z 768 1024 := by
    rw [← Bounds.join (by decide) (by decide), ← Bounds.join (by decide) (by decide), ← Bounds.join (by decide) (by decide)]
  rw [e]
  exact ⟨fun h => ⟨⟨⟨h.1.1.1.2, h.1.1.2⟩, h.1.2⟩, h.2⟩, fun h => ⟨⟨⟨⟨hz, h.1.1.1⟩, h.1.1.2⟩, h.1.2⟩, h.2⟩⟩

end Seg

end Cert.Proof.Block

end
-- ==== Proof.TilesIdeal.lean ====
/-
  The tiles' maxima, bounded: what a call's tile leaves for a segment is at most a number exactly when the features of the
  tile's rows with the segment's id are.
-/
module

public import proofs.«01_k».proof.Proof.TcIdeal
public import proofs.«01_k».proof.Proof.Bound

@[expose] public section

noncomputable section

namespace Cert.KernelIdeal

open Idealize.ShloMosaic Idealize.ShloMosaic.TcCoe Cert.KernelIdeal.Gen Cert.Proof Cert.Proof.Block
open scoped BigOperators

/-- An entry the body reads is the table's. -/
theorem entry_eq (V : IVec V16 32) (s : Fin 16) : entry V s = V (ix1 s) := by
  unfold entry
  pointwise

/-- The first row of a tile in the first call, -/
theorem base1_at : ∀ (c : Fin 2) (s : Fin 16), (base1 (at1 c s)).toInt = ((s.val * 2 + c.val) * 1024 : Nat) := by decide +kernel
/-- and in the second. -/
theorem base3_at : ∀ (c : Fin 2) (s : Fin 16), (base3 (at3 c s)).toInt = (32768 + (s.val * 2 + c.val) * 1024 : Nat) := by decide +kernel
/-- Where chunk 0 of a tile begins. -/
theorem off1_0 : ∀ (c : Fin 2) (s : Fin 16), k1_off1 (at1 c s) 0#32 = ![(s.val * 2 + c.val) * 1024 + 0, 0] := by decide +kernel
/-- Where chunk 1 of a tile begins. -/
theorem off1_1 : ∀ (c : Fin 2) (s : Fin 16), k1_off1 (at1 c s) 256#32 = ![(s.val * 2 + c.val) * 1024 + 256, 0] := by decide +kernel
/-- Where chunk 2 of a tile begins. -/
theorem off1_2 : ∀ (c : Fin 2) (s : Fin 16), k1_off258 (at1 c s) 512#32 = ![(s.val * 2 + c.val) * 1024 + 512, 0] := by decide +kernel
/-- Where chunk 3 of a tile begins. -/
theorem off1_3 : ∀ (c : Fin 2) (s : Fin 16), k1_off258 (at1 c s) 768#32 = ![(s.val * 2 + c.val) * 1024 + 768, 0] := by decide +kernel
/-- Where chunk 0 of a tile begins. -/
theorem off3_0 : ∀ (c : Fin 2) (s : Fin 16), k3_off1 (at3 c s) 0#32 = ![(s.val * 2 + c.val) * 1024 + 0, 0] := by decide +kernel
/-- Where chunk 1 of a tile begins. -/
theorem off3_1 : ∀ (c : Fin 2) (s : Fin 16), k3_off1 (at3 c s) 256#32 = ![(s.val * 2 + c.val) * 1024 + 256, 0] := by decide +kernel
/-- Where chunk 2 of a tile begins. -/
theorem off3_2 : ∀ (c : Fin 2) (s : Fin 16), k3_off258 (at3 c s) 512#32 = ![(s.val * 2 + c.val) * 1024 + 512, 0] := by decide +kernel
/-- Where chunk 3 of a tile begins. -/
theorem off3_3 : ∀ (c : Fin 2) (s : Fin 16), k3_off258 (at3 c s) 768#32 = ![(s.val * 2 + c.val) * 1024 + 768, 0] := by decide +kernel

/-- Column `c` of row `q` of the rows a tile has, in a call's features. -/
def rowsOf (h : FVec Ideal S32768x128 .f32) (a : Nat) (q c : Nat) : EReal := h (ix2 (Fin.ofNat 32768 (a + q)) (Fin.ofNat 128 c))

/-- A chunk of the first call, element by element; -/
theorem chunk1_apply (h : FVec Ideal S32768x128 .f32) (L : grid1.Coords) {off : Fin 2 → ℕ} (hoff : ∀ a, off a + S256x128.size a ≤ S32768x128.size a)
    {a k : Nat} (ho : off = ![a + k, 0]) (r c : Nat) (hr : r < 256) (hc : c < 128) :
    chunk1 h L off hoff (ix2 (Fin.ofNat 256 r) (Fin.ofNat 128 c)) = rowsOf h a (k + r) c := by
  subst ho
  have h0 : a + k + 256 ≤ 32768 := hoff 0
  unfold chunk1 rowsOf
  show h _ = h _
  refine congrArg h (Shape.idx_ext₂ ?_ ?_)
  · refine (ValueKit.rect_emb_unit_val _ _ _ _ _).trans ?_
    show a + k + r % 256 = (a + (k + r)) % 32768
    omega
  · refine (ValueKit.rect_emb_unit_val _ _ _ _ _).trans ?_
    show 0 + c % 128 = c % 128
    omega
/-- of the second. -/
theorem chunk3_apply (h : FVec Ideal S32768x128 .f32) (L : grid3.Coords) {off : Fin 2 → ℕ} (hoff : ∀ a, off a + S256x128.size a ≤ S32768x128.size a)
    {a k : Nat} (ho : off = ![a + k, 0]) (r c : Nat) (hr : r < 256) (hc : c < 128) :
    chunk3 h L off hoff (ix2 (Fin.ofNat 256 r) (Fin.ofNat 128 c)) = rowsOf h a (k + r) c :=
  chunk1_apply h (fun a => L a) hoff ho r c hr hc

variable (m : (ℓ : Loc nD τ sig) → Buf (Elt Ideal) ℓ) (d : Dev nD)

/-- The rows' ids, as integers, -/
def ids : Fin 131072 → Int := fun g => (tOf m d (ix1 g)).toInt
/-- and where each segment begins and ends. -/
def segS (s : Fin 16) : Int := below (ids m d) s.val
/-- A segment's end. -/
def segE (s : Fin 16) : Int := if s.val < 15 then below (ids m d) (s.val + 1) else (131072 : Nat)

/-- A small number, as a word, reads as itself. -/
theorem toInt_small {n : Nat} (h : n ≤ 131072) : (BitVec.ofNat 32 n).toInt = n := by
  have h' := Affine.ofNat n (e := (n : Int)) ⟨rfl, by omega⟩
  unfold Affine.IsInt at h'
  exact h'

/-- The start that the body reads is the segment's, -/
theorem entry_S (s : Fin 16) : (entry (Sv m d) s).toInt = segS m d s := by
  rw [entry_eq, Sv_apply]
  exact toInt_small (below_le _ _)
/-- and so is the end. -/
theorem entry_E (s : Fin 16) : (entry (Ev m d) s).toInt = segE m d s := by
  rw [entry_eq, Ev_apply]
  unfold segE
  split
  · exact toInt_small (below_le _ _)
  · rfl
/-- A start is at most the number of rows, -/
theorem segS_range (s : Fin 16) : 0 ≤ segS m d s ∧ segS m d s ≤ 131072 := by
  have := below_le (ids m d) s.val
  unfold segS; omega
/-- and so is an end. -/
theorem segE_range (s : Fin 16) : 0 ≤ segE m d s ∧ segE m d s ≤ 131072 := by
  have := below_le (ids m d) (s.val + 1)
  unfold segE; split <;> omega

/-- With sorted ids below sixteen, the rows in a segment's range are those with its id. -/
theorem in_seg (hm : Monotone (ids m d)) (hlt : ∀ g, ids m d g < 16) (s : Fin 16) (g : Fin 131072) :
    (segS m d s ≤ g.val ∧ (g.val : Int) < segE m d s) ↔ ids m d g = s.val := by
  unfold segS segE
  split
  · rw [← between_iff hm]; omega
  · next h =>
    have h1 := mem_below hm g s.val
    have h2 := hlt g
    have h3 := g.isLt
    omega

/-- What bounding row `g`'s feature for a segment asks. -/
def Ok (s : Fin 16) (j : Fin 64) (z : EReal) (g : Fin 131072) : Prop := ids m d g = s.val → ft m d g j ≤ z

/-- What bounding a tile's maximum asks, said of the rows with the segment's id. -/
theorem bounds_iff (hm : Monotone (ids m d)) (hlt : ∀ g, ids m d g < 16) {n a : Nat} (ha : n + a + 1024 ≤ 65536) (ha' : a + 1024 ≤ 32768) (s : Fin 16) (j : Fin 64) (z : EReal) :
    Bounds (segS m d s) (segE m d s) ((n + a : Nat) : Int) (rowsOf (lay m d n) a) j.val z 0 1024
      ↔ ∀ q, q < 1024 → Ok m d s j z (Fin.ofNat 131072 (n + a + q)) ∧ Ok m d s j z (Fin.ofNat 131072 (n + a + q + 65536)) := by
  refine forall_congr' fun q => ?_
  rw [forall_prop_of_true (Nat.zero_le q)]
  refine forall_congr' fun hq => ?_
  have hj : j.val < 64 := j.isLt
  have b1 : n + a + q < 131072 := by omega
  have b2 : n + a + q + 65536 < 131072 := by omega
  have e1 : rowsOf (lay m d n) a q j.val = ft m d (Fin.ofNat 131072 (n + a + q)) j := by
    refine (lay_left m d _ _ _ ((ofNat_val b1).trans ?_) ?_).symm
    · show n + a + q = n + (a + q) % 32768
      omega
    · show j.val = j.val % 128
      omega
  have e2 : rowsOf (lay m d n) a q (64 + j.val) = ft m d (Fin.ofNat 131072 (n + a + q + 65536)) j := by
    refine (lay_right m d _ _ _ ((ofNat_val b2).trans ?_) ?_).symm
    · show n + a + q + 65536 = n + (a + q) % 32768 + 65536
      omega
    · show j.val + 64 = (64 + j.val) % 128
      omega
  have i1 := in_seg m d hm hlt s (Fin.ofNat 131072 (n + a + q))
  have i2 := in_seg m d hm hlt s (Fin.ofNat 131072 (n + a + q + 65536))
  rw [ofNat_val b1] at i1
  rw [ofNat_val b2] at i2
  rw [e1, e2]
  unfold Ok
  rw [← i1, ← i2]
  push_cast
  exact ⟨fun h => ⟨fun h' => h.1 h'.1 h'.2, fun h' => h.2 h'.1 h'.2⟩, fun h => ⟨fun a1 a2 => h.1 ⟨a1, a2⟩, fun a1 a2 => h.2 ⟨a1, a2⟩⟩⟩

/-- A number bounds a tile's maximum in the first call exactly when it bounds the features of the tile's rows of the segment, -/
theorem M1_le (hm : Monotone (ids m d)) (hlt : ∀ g, ids m d g < 16) (w : Fin 32) (s : Fin 16) (j : Fin 64) (z : EReal) :
    (M1 m d (ix3 w s j) : EReal) ≤ z ↔ ∀ q, q < 1024 → Ok m d s j z (Fin.ofNat 131072 (0 + w.val * 1024 + q)) ∧ Ok m d s j z (Fin.ofNat 131072 (0 + w.val * 1024 + q + 65536)) := by
  have hw : w.val / 2 * 2 + w.val % 2 = w.val := by omega
  rw [← bounds_iff m d hm hlt (by omega) (by omega)]
  unfold M1 out1 tileOut1
  rw [H1_eq]
  refine tileVal_le (S := segS m d) (E := segE m d) (X := rowsOf (lay m d 0) (w.val * 1024)) (B' := ((0 + w.val * 1024 : Nat) : Int)) ?_ (entry_S m d) (entry_E m d) (by omega) (segS_range m d) (segE_range m d)
    (chunk1_apply _ _ _ ?_) (chunk1_apply _ _ _ ?_) (chunk1_apply _ _ _ ?_) (chunk1_apply _ _ _ ?_) _ z
  · refine (base1_at _ _).trans ?_
    show ((w.val / 2 * 2 + w.val % 2) * 1024 : Nat) = ((0 + w.val * 1024 : Nat) : Int)
    rw [hw, Nat.zero_add]
  · refine (off1_0 _ _).trans ?_
    show ![(w.val / 2 * 2 + w.val % 2) * 1024 + 0, 0] = _
    rw [hw]
  · refine (off1_1 _ _).trans ?_
    show ![(w.val / 2 * 2 + w.val % 2) * 1024 + 256, 0] = _
    rw [hw]
  · refine (off1_2 _ _).trans ?_
    show ![(w.val / 2 * 2 + w.val % 2) * 1024 + 512, 0] = _
    rw [hw]
  · refine (off1_3 _ _).trans ?_
    show ![(w.val / 2 * 2 + w.val % 2) * 1024 + 768, 0] = _
    rw [hw]

/-- and likewise in the second. -/
theorem M3_le (hm : Monotone (ids m d)) (hlt : ∀ g, ids m d g < 16) (w : Fin 32) (s : Fin 16) (j : Fin 64) (z : EReal) :
    (M3 m d (ix3 w s j) : EReal) ≤ z ↔ ∀ q, q < 1024 → Ok m d s j z (Fin.ofNat 131072 (32768 + w.val * 1024 + q)) ∧ Ok m d s j z (Fin.ofNat 131072 (32768 + w.val * 1024 + q + 65536)) := by
  have hw : w.val / 2 * 2 + w.val % 2 = w.val := by omega
  rw [← bounds_iff m d hm hlt (by omega) (by omega)]
  unfold M3 out3 tileOut3
  rw [H3_eq]
  refine tileVal_le (S := segS m d) (E := segE m d) (X := rowsOf (lay m d 32768) (w.val * 1024)) (B' := ((32768 + w.val * 1024 : Nat) : Int)) ?_ (entry_S m d) (entry_E m d) (by omega) (segS_range m d) (segE_range m d)
    (chunk3_apply _ _ _ ?_) (chunk3_apply _ _ _ ?_) (chunk3_apply _ _ _ ?_) (chunk3_apply _ _ _ ?_) _ z
  · refine (base3_at _ _).trans ?_
    show ((32768 + (w.val / 2 * 2 + w.val % 2) * 1024 : Nat) : Int) = ((32768 + w.val * 1024 : Nat) : Int)
    rw [hw]
  · refine (off3_0 _ _).trans ?_
    show ![(w.val / 2 * 2 + w.val % 2) * 1024 + 0, 0] = _
    rw [hw]
  · refine (off3_1 _ _).trans ?_
    show ![(w.val / 2 * 2 + w.val % 2) * 1024 + 256, 0] = _
    rw [hw]
  · refine (off3_2 _ _).trans ?_
    show ![(w.val / 2 * 2 + w.val % 2) * 1024 + 512, 0] = _
    rw [hw]
  · refine (off3_3 _ _).trans ?_
    show ![(w.val / 2 * 2 + w.val % 2) * 1024 + 768, 0] = _
    rw [hw]

end Cert.KernelIdeal

end
-- ==== Proof.ResultIdeal.lean ====
/-
  The kernel's result, bounded: of sorted ids below sixteen, a number bounds a segment's maximum of a feature exactly
  when it bounds that feature of every row with the segment's id.
-/
module

public import proofs.«01_k».proof.Proof.TilesIdeal

@[expose] public section

noncomputable section

namespace Cert.KernelIdeal

open Idealize.ShloMosaic Idealize.ShloMosaic.TcCoe Cert.KernelIdeal.Gen Cert.Proof Cert.Proof.Block
open scoped BigOperators

/-- A number bounds a joined maximum exactly when it bounds every tile's of both tables. -/
theorem joined_le (X Y : FVec Ideal S32x16x64 .f32) (s : Fin 16) (j : Fin 64) (z : EReal) :
    (joined X Y (ix2 s j) : EReal) ≤ z ↔ ∀ w : Fin 32, (X (ix3 w s j) : EReal) ≤ z ∧ (Y (ix3 w s j) : EReal) ≤ z := by
  pointwise [joined]
  rw [Cert.Proof.word_bot, max_le_iff, Finset.fold_max_le, Finset.fold_max_le]
  exact ⟨fun h w => ⟨h.1.2 w (Finset.mem_univ _), h.2.2 w (Finset.mem_univ _)⟩, fun h => ⟨⟨bot_le, fun w _ => (h w).1⟩, ⟨bot_le, fun w _ => (h w).2⟩⟩⟩

variable (m : (ℓ : Loc nD τ sig) → Buf (Elt Ideal) ℓ) (d : Dev nD)

/-- The window's only block is the whole array. -/
theorem ix4_0 : ∀ t : Fin cfg4.N, win4_0.index t = ![0, 0, 0] := by decide +kernel
/-- The window's only block is the whole array. -/
theorem ix4_1 : ∀ t : Fin cfg4.N, win4_1.index t = ![0, 0, 0] := by decide +kernel
/-- The window's only block is the whole array. -/
theorem ix4_2 : ∀ t : Fin cfg4.N, win4_2.index t = ![0, 0] := by decide +kernel

/-- Two places are the same when their three indices are. -/
theorem idx_ext3 {p q : S32x16x64.Idx} (h0 : (p 0).val = (q 0).val) (h1 : (p 1).val = (q 1).val) (h2 : (p 2).val = (q 2).val) : p = q := by
  funext a
  match a with
  | 0 => exact Fin.ext h0
  | 1 => exact Fin.ext h1
  | 2 => exact Fin.ext h2

/-- The first window's block is the first table, element by element; -/
theorem blk4_0 (t : Fin cfg4.N) (w : Fin 32) (s : Fin 16) (j : Fin 64) : blk4 (W₂ m) d 0 t (ix3 w s j) = M1 m d (ix3 w s j) := by
  rw [← W₂_v18 m 2 d]
  blk_simp [blk4]
  refine congrArg (W₂ m 2 d main_v18 : FVec Ideal S32x16x64 .f32) (idx_ext3 ?_ ?_ ?_) <;> blk_simp [ix4_0] <;> simp
/-- the second window's is the second table. -/
theorem blk4_1 (t : Fin cfg4.N) (w : Fin 32) (s : Fin 16) (j : Fin 64) : blk4 (W₂ m) d 1 t (ix3 w s j) = M3 m d (ix3 w s j) := by
  rw [← W₂_v20 m 2 d]
  blk_simp [blk4]
  refine congrArg (W₂ m 2 d main_v20 : FVec Ideal S32x16x64 .f32) (idx_ext3 ?_ ?_ ?_) <;> blk_simp [ix4_1] <;> simp

/-- The result's window covers the result. -/
theorem covers4 : (win4_2).Covers := by decide +kernel
/-- An element of the block has its row in the array -/
theorem out4_0 (t : Fin cfg4.N) (y : S16x64.Idx) : (((win4_2.blk t).view.emb y 0 : Fin _) : Nat) = (y 0).val := by blk_simp [ix4_2]
/-- and its column. -/
theorem out4_1 (t : Fin cfg4.N) (y : S16x64.Idx) : (((win4_2.blk t).view.emb y 1 : Fin _) : Nat) = (y 1).val := by blk_simp [ix4_2]

/-- A place of a table, by its tile, segment and feature. -/
theorem ix3_of (q : S32x16x64.Idx) : ∃ (w : Fin 32) (s : Fin 16) (j : Fin 64), q = ix3 w s j := ⟨q 0, q 1, q 2, eq_ix3 q⟩

/-- The first window's block is the first table; -/
theorem blk4_0_eq (t : Fin cfg4.N) : blk4 (W₂ m) d 0 t = M1 m d := by
  funext q
  obtain ⟨w, s, j, rfl⟩ := ix3_of q
  exact blk4_0 m d t w s j
/-- the second window's is the second table. -/
theorem blk4_1_eq (t : Fin cfg4.N) : blk4 (W₂ m) d 1 t = M3 m d := by
  funext q
  obtain ⟨w, s, j, rfl⟩ := ix3_of q
  exact blk4_1 m d t w s j

/-- The result's block is the join of the two blocks, -/
theorem after4_eq (t : Fin cfg4.N) (y : S16x64.Idx) : (dat4 (W₂ m) d).after 2 t y
    = joined (F := Ideal) (blk4 (W₂ m) d 0 t) (blk4 (W₂ m) d 1 t) y := rfl

/-- which is the join of the two tables. -/
theorem after4 (t : Fin cfg4.N) (y : S16x64.Idx) : (dat4 (W₂ m) d).after 2 t y = joined (F := Ideal) (M1 m d) (M3 m d) ((win4_2.blk t).view.emb y) := by
  rw [after4_eq, blk4_0_eq, blk4_1_eq]
  exact congrArg (joined (F := Ideal) (M1 m d) (M3 m d)) (Shape.idx_ext₂ (out4_0 t y).symm (out4_1 t y).symm)

/-- The kernel's result is the join of the two tables. -/
theorem R_eq : R m d = joined (F := Ideal) (M1 m d) (M3 m d) := by
  unfold R
  refine (dat4 (W₂ m) d).arrAt_eq_of_covers 2 _ covers4 fun t hf y => ?_
  blk_simp
  exact after4 m d t y

/-- A row lies in one half of one tile of one call. -/
theorem row_split {g : Nat} (h : g < 131072) : ∃ w q, w < 32 ∧ q < 1024 ∧ (g = 0 + w * 1024 + q ∨ g = 0 + w * 1024 + q + 65536 ∨ g = 32768 + w * 1024 + q ∨ g = 32768 + w * 1024 + q + 65536) :=
  ⟨g % 32768 / 1024, g % 1024, by omega, by omega, by omega⟩

/-- A number bounds the kernel's entry exactly when it bounds the feature in every row of the segment. -/
theorem R_le (hm : Monotone (ids m d)) (hlt : ∀ g, ids m d g < 16) (s : Fin 16) (j : Fin 64) (z : EReal) :
    (R m d (ix2 s j) : EReal) ≤ z ↔ ∀ g : Fin 131072, ids m d g = s.val → ft m d g j ≤ z := by
  rw [R_eq, joined_le]
  constructor
  · intro h g
    obtain ⟨w, q, hw, hq, hg⟩ := row_split g.isLt
    have h1 := (M1_le m d hm hlt ⟨w, hw⟩ s j z).1 (h ⟨w, hw⟩).1 q hq
    have h3 := (M3_le m d hm hlt ⟨w, hw⟩ s j z).1 (h ⟨w, hw⟩).2 q hq
    have e : ∀ a, g.val = a → Fin.ofNat 131072 a = g := fun a ha => Fin.ext ((ofNat_val (ha ▸ g.isLt)).trans ha.symm)
    rcases hg with hg | hg | hg | hg
    · have := h1.1; rwa [e _ hg] at this
    · have := h1.2; rwa [e _ hg] at this
    · have := h3.1; rwa [e _ hg] at this
    · have := h3.2; rwa [e _ hg] at this
  · intro h w
    exact ⟨(M1_le m d hm hlt w s j z).2 fun q _ => ⟨h _, h _⟩, (M3_le m d hm hlt w s j z).2 fun q _ => ⟨h _, h _⟩⟩

end Cert.KernelIdeal

end
-- ==== Proof.Algebraic.lean ====
/-
  The kernel and the reference agree at the extended reals: from equal arguments with sorted ids below sixteen, both
  run to their ends and leave equal results.
-/
module

public import proofs.«01_k».proof.Defs
public import proofs.«01_k».proof.Proof.Sorted
public import proofs.«01_k».proof.Proof.RefValue
public import proofs.«01_k».proof.Proof.ResultIdeal

@[expose] public section

noncomputable section

namespace Cert.Proof

open Idealize.ShloMosaic Idealize.SL.Sem

open Cert.KernelIdeal in
/-- Two tables of a number for each segment and feature are equal when the same numbers bound their entries. -/
theorem result_eq (m : (ℓ : Loc nD τ sig) → Buf (Elt Ideal) ℓ) (d : Dev nD) (hm : Monotone (ids m d)) (hlt : ∀ g, ids m d g < 16) :
    Cert.ReferenceIdeal.result (xOf m d) (pOf m d) (wOf m d) (bOf m d) (tOf m d) = R m d := by
  funext y
  obtain ⟨s, j, rfl⟩ : ∃ (s : Fin 16) (j : Fin 64), y = ix2 s j := ⟨y 0, y 1, eq_ix2 y⟩
  exact eq_of_forall_ge_iff (α := EReal) fun z => (Cert.ReferenceIdeal.result_le _ _ _ _ _ s j z).trans (R_le m d hm hlt s j z).symm

/-- The algebraic claim: the kernel's result and the reference's are one table. -/
theorem algebraic : algebraic_KernelIdeal_ReferenceIdeal_pre_batch_sorted (hKernelIdeal := Cert.KernelIdeal.Gen.facts) (hReferenceIdeal := Cert.ReferenceIdeal.Gen.facts)
    (hPre_batch_sorted := Cert.Pre_batch_sorted.facts) := fun m g m' g' hpre hargs => by
  refine ⟨fun c => Cert.KernelIdeal.R m c, (θ_run (Cert.KernelIdeal.defs (F := Ideal)) _ _).mono (fun _ h c => ?_) (Cert.KernelIdeal.run_main m g),
    (θ_run (Cert.ReferenceIdeal.defs (F := Ideal)) _ _).mono (fun _ h c => ⟨(h c).1.trans ?_, (h c).2⟩) (Cert.ReferenceIdeal.Value.run m' g')⟩
  · obtain ⟨h0, h1, h2, h3, h4, h5⟩ := h.1 c
    exact ⟨h5, h0, h1, h2, h3, h4⟩
  · obtain ⟨e0, e1, e2, e3, e4⟩ := hargs c
    rw [e0, e1, e2, e3, e4]
    exact result_eq m c (Cert.Pre_batch_sorted.sorted _ _ _ _ _ (hpre c).1) (Cert.Pre_batch_sorted.below16 _ _ _ _ _ (hpre c).2)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem

/-- The claim's parts, each as its module proves it. -/
theorem claim : Cert.Claim := ⟨Cert.Kernel.Gen.facts, Cert.KernelIdeal.Gen.facts, Cert.ReferenceIdeal.Gen.facts, Cert.Pre_batch_sorted.facts,
  frame_Kernel, frame_KernelIdeal, frame_KernelIdeal_sorted, frame_ReferenceIdeal, frame_ReferenceIdeal_sorted, trivial, algebraic⟩

end Cert.Proof

end
